-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_top [hPre_distinct_top : Cert.Pre_distinct_top.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_top [hPre_distinct_top : Cert.Pre_distinct_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_distinct_top [hKernelIdeal : Cert.KernelIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_distinct_top [hReferenceIdeal : Cert.ReferenceIdeal.Facts] [hPre_distinct_top : Cert.Pre_distinct_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_distinct_top [hKernelIdeal : Cert.KernelIdeal.Facts] [hReferenceIdeal : Cert.ReferenceIdeal.Facts] [hPre_distinct_top : Cert.Pre_distinct_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_distinct_top : Cert.Pre_distinct_top.Facts),
    quiescent_Kernel (hKernel := hKernel)
    ∧ quiescent_KernelIdeal (hKernelIdeal := hKernelIdeal)
    ∧ quiescent_KernelIdeal_pre_distinct_top (hKernelIdeal := hKernelIdeal) (hPre_distinct_top := hPre_distinct_top)
    ∧ quiescent_ReferenceIdeal (hReferenceIdeal := hReferenceIdeal)
    ∧ quiescent_ReferenceIdeal_pre_distinct_top (hReferenceIdeal := hReferenceIdeal) (hPre_distinct_top := hPre_distinct_top)
    ∧ preserves_Kernel_KernelIdeal
    ∧ algebraic_KernelIdeal_ReferenceIdeal_pre_distinct_top (hKernelIdeal := hKernelIdeal) (hReferenceIdeal := hReferenceIdeal) (hPre_distinct_top := hPre_distinct_top)
-- ==== Pre_distinct_top.lean ====
abbrev S16x288x1024x1 : Shape := ⟨4, ![16, 288, 1024, 1]⟩
abbrev S145x32 : Shape := ⟨2, ![145, 32]⟩
abbrev S1024x10 : Shape := ⟨2, ![1024, 10]⟩
abbrev S1024x42x30 : Shape := ⟨3, ![1024, 42, 30]⟩
abbrev S30x30 : Shape := ⟨2, ![30, 30]⟩
abbrev S16x1024x1024 : Shape := ⟨3, ![16, 1024, 1024]⟩
abbrev S145x288 : Shape := ⟨2, ![145, 288]⟩
abbrev S16x288x1024 : Shape := ⟨3, ![16, 288, 1024]⟩
abbrev S16x1024x288 : Shape := ⟨3, ![16, 1024, 288]⟩
abbrev S16x1024x145 : Shape := ⟨3, ![16, 1024, 145]⟩
abbrev S_ : Shape := ⟨0, ![]⟩
abbrev S16x145 : Shape := ⟨2, ![16, 145]⟩
abbrev S16x1x145 : Shape := ⟨3, ![16, 1, 145]⟩
abbrev S16x1024 : Shape := ⟨2, ![16, 1024]⟩
abbrev S16x1024x1 : Shape := ⟨3, ![16, 1024, 1]⟩
abbrev S16x1024x32 : Shape := ⟨3, ![16, 1024, 32]⟩
abbrev S1x1024x10 : Shape := ⟨3, ![1, 1024, 10]⟩
abbrev S16x1024x10 : Shape := ⟨3, ![16, 1024, 10]⟩
abbrev S16x1024x42 : Shape := ⟨3, ![16, 1024, 42]⟩
abbrev S16x1024x42x1 : Shape := ⟨4, ![16, 1024, 42, 1]⟩
abbrev S1x1024x42x30 : Shape := ⟨4, ![1, 1024, 42, 30]⟩
abbrev S16x1024x42x30 : Shape := ⟨4, ![16, 1024, 42, 30]⟩
abbrev S16x1024x30 : Shape := ⟨3, ![16, 1024, 30]⟩
abbrev S16 : Shape := ⟨1, ![16]⟩
abbrev S16x1x1 : Shape := ⟨3, ![16, 1, 1]⟩
abbrev S16x30x1024 : Shape := ⟨3, ![16, 30, 1024]⟩
abbrev S16x1024x21 : Shape := ⟨3, ![16, 1024, 21]⟩
abbrev S16x1024x20 : Shape := ⟨3, ![16, 1024, 20]⟩

class Facts : Prop where
  shapeCasts_S16x288x1024x1_S16x288x1024 : S16x288x1024x1.ShapeCasts S16x288x1024
  transposes_S16x288x1024_S16x1024x288_0_2_1 : S16x288x1024.Transposes [0, 2, 1] S16x1024x288
  reducesTo_S16x1024x145_S16x145_d1 : S16x1024x145.ReducesTo [1] S16x145
  h_S_ : 0 < S_.numel
  bcast_S16x145_S16x1x145_0_2 : S16x145.BroadcastsInDim S16x1x145 (![0, 2] : Fin 2 → Fin S16x1x145.rank)
  bcast_S_S16x1x145 : S_.BroadcastsInDim S16x1x145 (![] : Fin 0 → Fin S16x1x145.rank)
  bcast_S16x1x145_S16x1024x145_0_1_2 : S16x1x145.BroadcastsInDim S16x1024x145 (![0, 1, 2] : Fin 3 → Fin S16x1024x145.rank)
  reducesTo_S16x1024x145_S16x1024_d2 : S16x1024x145.ReducesTo [2] S16x1024
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x145_0_1_2 : S16x1024x1.BroadcastsInDim S16x1024x145 (![0, 1, 2] : Fin 3 → Fin S16x1024x145.rank)
  bcast_S1024x10_S1x1024x10_1_2 : S1024x10.BroadcastsInDim S1x1024x10 (![1, 2] : Fin 2 → Fin S1x1024x10.rank)
  bcast_S1x1024x10_S16x1024x10_0_1_2 : S1x1024x10.BroadcastsInDim S16x1024x10 (![0, 1, 2] : Fin 3 → Fin S16x1024x10.rank)
  concatenates_S16x1024x32_S16x1024x10_S16x1024x42_d2 : Shape.Concatenates [S16x1024x32, S16x1024x10] S16x1024x42 2
  bcast_S16x1024x42_S16x1024x42x1_0_1_2 : S16x1024x42.BroadcastsInDim S16x1024x42x1 (![0, 1, 2] : Fin 3 → Fin S16x1024x42x1.rank)
  bcast_S1024x42x30_S1x1024x42x30_1_2_3 : S1024x42x30.BroadcastsInDim S1x1024x42x30 (![1, 2, 3] : Fin 3 → Fin S1x1024x42x30.rank)
  bcast_S16x1024x42x1_S16x1024x42x30_0_1_2_3 : S16x1024x42x1.BroadcastsInDim S16x1024x42x30 (![0, 1, 2, 3] : Fin 4 → Fin S16x1024x42x30.rank)
  bcast_S1x1024x42x30_S16x1024x42x30_0_1_2_3 : S1x1024x42x30.BroadcastsInDim S16x1024x42x30 (![0, 1, 2, 3] : Fin 4 → Fin S16x1024x42x30.rank)
  reducesTo_S16x1024x42x30_S16x1024x30_d2 : S16x1024x42x30.ReducesTo [2] S16x1024x30
  bcast_S_S16x1024x30 : S_.BroadcastsInDim S16x1024x30 (![] : Fin 0 → Fin S16x1024x30.rank)
  reducesTo_S16x1024x30_S16_d1_2 : S16x1024x30.ReducesTo [1, 2] S16
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x1024x30_0_1_2 : S16x1x1.BroadcastsInDim S16x1024x30 (![0, 1, 2] : Fin 3 → Fin S16x1024x30.rank)
  transposes_S16x1024x30_S16x30x1024_0_2_1 : S16x1024x30.Transposes [0, 2, 1] S16x30x1024
  bcast_S_S16x1024x1024 : S_.BroadcastsInDim S16x1024x1024 (![] : Fin 0 → Fin S16x1024x1024.rank)
  natLt_8_32 : 8 < 32
  sliceFits_S16x1024x1024_S16x1024x21 : S16x1024x1024.Slices (fun _ => 0) S16x1024x21
  slices_S16x1024x21_S16x1024x20_0_0_0 : S16x1024x21.Slices ![0, 0, 0] S16x1024x20
  slices_S16x1024x21_S16x1024x20_0_0_1 : S16x1024x21.Slices ![0, 0, 1] S16x1024x20
  dot_S16x1024x288_S145x288_S16x1024x145_2_1_01_0_n_n_wf : DotDims.WF S16x1024x288 S145x288 S16x1024x145 [2] [1] [0, 1] [0] [] []
  dot_S16x1024x145_S145x32_S16x1024x32_2_0_01_1_n_n_wf : DotDims.WF S16x1024x145 S145x32 S16x1024x32 [2] [0] [0, 1] [1] [] []
  dot_S16x1024x30_S30x30_S16x1024x30_2_0_01_1_n_n_wf : DotDims.WF S16x1024x30 S30x30 S16x1024x30 [2] [0] [0, 1] [1] [] []
  dot_S16x1024x30_S16x30x1024_S16x1024x1024_2_1_1_2_0_0_wf : DotDims.WF S16x1024x30 S16x30x1024 S16x1024x1024 [2] [1] [1] [2] [0] [0]

variable [Facts]

def dot_S16x1024x288_S145x288_S16x1024x145_2_1_01_0_n_n : DotDims S16x1024x288 S145x288 S16x1024x145 where
  lhsContracting := [2]
  rhsContracting := [1]
  lhsNonContracting := [0, 1]
  rhsNonContracting := [0]
  lhsBatch := []
  rhsBatch := []
  wf := dot_S16x1024x288_S145x288_S16x1024x145_2_1_01_0_n_n_wf
def dot_S16x1024x145_S145x32_S16x1024x32_2_0_01_1_n_n : DotDims S16x1024x145 S145x32 S16x1024x32 where
  lhsContracting := [2]
  rhsContracting := [0]
  lhsNonContracting := [0, 1]
  rhsNonContracting := [1]
  lhsBatch := []
  rhsBatch := []
  wf := dot_S16x1024x145_S145x32_S16x1024x32_2_0_01_1_n_n_wf
def dot_S16x1024x30_S30x30_S16x1024x30_2_0_01_1_n_n : DotDims S16x1024x30 S30x30 S16x1024x30 where
  lhsContracting := [2]
  rhsContracting := [0]
  lhsNonContracting := [0, 1]
  rhsNonContracting := [1]
  lhsBatch := []
  rhsBatch := []
  wf := dot_S16x1024x30_S30x30_S16x1024x30_2_0_01_1_n_n_wf
def dot_S16x1024x30_S16x30x1024_S16x1024x1024_2_1_1_2_0_0 : DotDims S16x1024x30 S16x30x1024 S16x1024x1024 where
  lhsContracting := [2]
  rhsContracting := [1]
  lhsNonContracting := [1]
  rhsNonContracting := [2]
  lhsBatch := [0]
  rhsBatch := [0]
  wf := dot_S16x1024x30_S16x30x1024_S16x1024x1024_2_1_1_2_0_0_wf

noncomputable abbrev lit0t0_0 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit0t0_1 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F800000#32
  | 34 => 0x3F800000#32
  | 35 => 0x3F800000#32
  | 36 => 0x3F800000#32
  | 37 => 0x3F800000#32
  | 38 => 0x3F800000#32
  | 39 => 0x3F800000#32
  | 40 => 0x3F800000#32
  | 41 => 0x3F800000#32
  | 42 => 0x3F800000#32
  | 43 => 0x3F800000#32
  | 44 => 0x3F800000#32
  | 45 => 0x3F800000#32
  | 46 => 0x3F800000#32
  | 47 => 0x3F800000#32
  | 48 => 0x3F800000#32
  | 49 => 0x3F800000#32
  | 50 => 0x3F800000#32
  | 51 => 0x3F800000#32
  | 52 => 0x3F800000#32
  | 53 => 0x3F800000#32
  | 54 => 0x3F800000#32
  | 55 => 0x3F800000#32
  | 56 => 0x3F800000#32
  | 57 => 0x3F800000#32
  | 58 => 0x3F800000#32
  | 59 => 0x3F800000#32
  | 60 => 0x3F800000#32
  | 61 => 0x3F800000#32
  | 62 => 0x3F800000#32
  | 63 => 0x3F800000#32
  | 64 => 0x3F800000#32
  | 65 => 0x3F800000#32
  | 66 => 0x3F800000#32
  | 67 => 0x3F800000#32
  | 68 => 0x3F800000#32
  | 69 => 0x3F800000#32
  | 70 => 0x3F800000#32
  | 71 => 0x3F800000#32
  | 72 => 0x3F800000#32
  | 73 => 0x3F800000#32
  | 74 => 0x3F800000#32
  | 75 => 0x3F800000#32
  | 76 => 0x3F800000#32
  | 77 => 0x3F800000#32
  | 78 => 0x3F800000#32
  | 79 => 0x3F800000#32
  | 80 => 0x3F800000#32
  | 81 => 0x3F800000#32
  | 82 => 0x3F800000#32
  | 83 => 0x3F800000#32
  | 84 => 0x3F800000#32
  | 85 => 0x3F800000#32
  | 86 => 0x3F800000#32
  | 87 => 0x3F800000#32
  | 88 => 0x3F800000#32
  | 89 => 0x3F800000#32
  | 90 => 0x3F800000#32
  | 91 => 0x3F800000#32
  | 92 => 0x3F800000#32
  | 93 => 0x3F800000#32
  | 94 => 0x3F800000#32
  | 95 => 0x3F800000#32
  | 96 => 0x3F800000#32
  | 97 => 0x3F800000#32
  | 98 => 0x3F800000#32
  | 99 => 0x3F800000#32
  | 100 => 0x3F800000#32
  | 101 => 0x3F800000#32
  | 102 => 0x3F800000#32
  | 103 => 0x3F800000#32
  | 104 => 0x3F800000#32
  | 105 => 0x3F800000#32
  | 106 => 0x3F800000#32
  | 107 => 0x3F800000#32
  | 108 => 0x3F800000#32
  | 109 => 0x3F800000#32
  | 110 => 0x3F800000#32
  | 111 => 0x3F800000#32
  | 112 => 0x3F800000#32
  | 113 => 0x3F800000#32
  | 114 => 0x3F800000#32
  | 115 => 0x3F800000#32
  | 116 => 0x3F800000#32
  | 117 => 0x3F800000#32
  | 118 => 0x3F800000#32
  | 119 => 0x3F800000#32
  | 120 => 0x3F800000#32
  | 121 => 0x3F800000#32
  | 122 => 0x3F800000#32
  | 123 => 0x3F800000#32
  | 124 => 0x3F800000#32
  | 125 => 0x3F800000#32
  | 126 => 0x3F800000#32
  | 127 => 0x3F800000#32
  | _ => 0#32

noncomputable abbrev lit0t0_2 (i : Nat) : BitVec 32 := match i % 128 with
  | 0 => 0x3F800000#32
  | 1 => 0x3F800000#32
  | 2 => 0x3F800000#32
  | 3 => 0x3F800000#32
  | 4 => 0x3F800000#32
  | 5 => 0x3F800000#32
  | 6 => 0x3F800000#32
  | 7 => 0x3F800000#32
  | 8 => 0x3F800000#32
  | 9 => 0x3F800000#32
  | 10 => 0x3F800000#32
  | 11 => 0x3F800000#32
  | 12 => 0x3F800000#32
  | 13 => 0x3F800000#32
  | 14 => 0x3F800000#32
  | 15 => 0x3F800000#32
  | 16 => 0x3F800000#32
  | 17 => 0x3F800000#32
  | 18 => 0x3F800000#32
  | 19 => 0x3F800000#32
  | 20 => 0x3F800000#32
  | 21 => 0x3F800000#32
  | 22 => 0x3F800000#32
  | 23 => 0x3F800000#32
  | 24 => 0x3F800000#32
  | 25 => 0x3F800000#32
  | 26 => 0x3F800000#32
  | 27 => 0x3F800000#32
  | 28 => 0x3F800000#32
  | 29 => 0x3F800000#32
  | 30 => 0x3F800000#32
  | 31 => 0x3F800000#32
  | 32 => 0x3F800000#32
  | 33 => 0x3F7FF067#32
  | 34 => 0x3F7FC1A0#32
  | 35 => 0x3F7F73AF#32
  | 36 => 0x3F7F069E#32
  | 37 => 0x3F7E7A7A#32
  | 38 => 0x3F7DCF55#32
  | 39 => 0x3F7D0543#32
  | 40 => 0x3F7C1C5C#32
  | 41 => 0x3F7B14BE#32
  | 42 => 0x3F79EE89#32
  | 43 => 0x3F78A9E0#32
  | 44 => 0x3F7746EA#32
  | 45 => 0x3F75C5D4#32
  | 46 => 0x3F7426CB#32
  | 47 => 0x3F726A03#32
  | 48 => 0x3F708FB2#32
  | 49 => 0x3F6E9811#32
  | 50 => 0x3F6C835E#32
  | 51 => 0x3F6A51DA#32
  | 52 => 0x3F6803CA#32
  | 53 => 0x3F659974#32
  | 54 => 0x3F631324#32
  | 55 => 0x3F60712A#32
  | 56 => 0x3F5DB3D7#32
  | 57 => 0x3F5ADB81#32
  | 58 => 0x3F57E880#32
  | 59 => 0x3F54DB31#32
  | 60 => 0x3F51B3F3#32
  | 61 => 0x3F4E7327#32
  | 62 => 0x3F4B1934#32
  | 63 => 0x3F47A682#32
  | 64 => 0x3F441B7D#32
  | 65 => 0x3F407893#32
  | 66 => 0x3F3CBE35#32
  | 67 => 0x3F38ECD8#32
  | 68 => 0x3F3504F3#32
  | 69 => 0x3F310700#32
  | 70 => 0x3F2CF37B#32
  | 71 => 0x3F28CAE3#32
  | 72 => 0x3F248DBB#32
  | 73 => 0x3F203C85#32
  | 74 => 0x3F1BD7CA#32
  | 75 => 0x3F176012#32
  | 76 => 0x3F12D5E8#32
  | 77 => 0x3F0E39DA#32
  | 78 => 0x3F098C78#32
  | 79 => 0x3F04CE53#32
  | 80 => 0x3F000000#32
  | 81 => 0x3EF64429#32
  | 82 => 0x3EEC6A50#32
  | 83 => 0x3EE273AA#32
  | 84 => 0x3ED8616C#32
  | 85 => 0x3ECE34D0#32
  | 86 => 0x3EC3EF15#32
  | 87 => 0x3EB9917B#32
  | 88 => 0x3EAF1D44#32
  | 89 => 0x3EA493B7#32
  | 90 => 0x3E99F61C#32
  | 91 => 0x3E8F45C0#32
  | 92 => 0x3E8483EE#32
  | 93 => 0x3E7363EE#32
  | 94 => 0x3E5DA259#32
  | 95 => 0x3E47C5C2#32
  | 96 => 0x3E31D0D4#32
  | 97 => 0x3E1BC63C#32
  | 98 => 0x3E05A8A8#32
  | 99 => 0x3DDEF599#32
  | 100 => 0x3DB27EB6#32
  | 101 => 0x3D85F213#32
  | 102 => 0x3D32AA3E#32
  | 103 => 0x3CB2B521#32
  | 104 => 0x248D3132#32
  | 105 => 0xBCB2B521#32
  | 106 => 0xBD32AA3E#32
  | 107 => 0xBD85F213#32
  | 108 => 0xBDB27EB6#32
  | 109 => 0xBDDEF599#32
  | 110 => 0xBE05A8A8#32
  | 111 => 0xBE1BC63C#32
  | 112 => 0xBE31D0D4#32
  | 113 => 0xBE47C5C2#32
  | 114 => 0xBE5DA259#32
  | 115 => 0xBE7363EE#32
  | 116 => 0xBE8483EE#32
  | 117 => 0xBE8F45C0#32
  | 118 => 0xBE99F61C#32
  | 119 => 0xBEA493B7#32
  | 120 => 0xBEAF1D44#32
  | 121 => 0xBEB9917B#32
  | 122 => 0xBEC3EF15#32
  | 123 => 0xBECE34D0#32
  | 124 => 0xBED8616C#32
  | 125 => 0xBEE273AA#32
  | 126 => 0xBEEC6A50#32
  | 127 => 0xBEF64429#32
  | _ => 0#32

noncomputable abbrev lit0t0_3 (i : Nat) : BitVec 32 := match i % 128 with
  | 0 => 0xBF000000#32
  | 1 => 0xBF04CE53#32
  | 2 => 0xBF098C78#32
  | 3 => 0xBF0E39DA#32
  | 4 => 0xBF12D5E8#32
  | 5 => 0xBF176012#32
  | 6 => 0xBF1BD7CA#32
  | 7 => 0xBF203C85#32
  | 8 => 0xBF248DBB#32
  | 9 => 0xBF28CAE3#32
  | 10 => 0xBF2CF37B#32
  | 11 => 0xBF310700#32
  | 12 => 0xBF3504F3#32
  | 13 => 0xBF38ECD8#32
  | 14 => 0xBF3CBE35#32
  | 15 => 0xBF407893#32
  | 16 => 0xBF441B7D#32
  | 17 => 0xBF47A682#32
  | 18 => 0xBF4B1934#32
  | 19 => 0xBF4E7327#32
  | 20 => 0xBF51B3F3#32
  | 21 => 0xBF54DB31#32
  | 22 => 0xBF57E880#32
  | 23 => 0xBF5ADB81#32
  | 24 => 0xBF5DB3D7#32
  | 25 => 0xBF60712A#32
  | 26 => 0xBF631324#32
  | 27 => 0xBF659974#32
  | 28 => 0xBF6803CA#32
  | 29 => 0xBF6A51DA#32
  | 30 => 0xBF6C835E#32
  | 31 => 0xBF6E9811#32
  | 32 => 0xBF708FB2#32
  | 33 => 0xBF726A03#32
  | 34 => 0xBF7426CB#32
  | 35 => 0xBF75C5D4#32
  | 36 => 0xBF7746EA#32
  | 37 => 0xBF78A9E0#32
  | 38 => 0xBF79EE89#32
  | 39 => 0xBF7B14BE#32
  | 40 => 0xBF7C1C5C#32
  | 41 => 0xBF7D0543#32
  | 42 => 0xBF7DCF55#32
  | 43 => 0xBF7E7A7A#32
  | 44 => 0xBF7F069E#32
  | 45 => 0xBF7F73AF#32
  | 46 => 0xBF7FC1A0#32
  | 47 => 0xBF7FF067#32
  | 48 => 0xBF800000#32
  | 49 => 0xBF7FF067#32
  | 50 => 0xBF7FC1A0#32
  | 51 => 0xBF7F73AF#32
  | 52 => 0xBF7F069E#32
  | 53 => 0xBF7E7A7A#32
  | 54 => 0xBF7DCF55#32
  | 55 => 0xBF7D0543#32
  | 56 => 0xBF7C1C5C#32
  | 57 => 0xBF7B14BE#32
  | 58 => 0xBF79EE89#32
  | 59 => 0xBF78A9E0#32
  | 60 => 0xBF7746EA#32
  | 61 => 0xBF75C5D4#32
  | 62 => 0xBF7426CB#32
  | 63 => 0xBF726A03#32
  | 64 => 0xBF708FB2#32
  | 65 => 0xBF6E9811#32
  | 66 => 0xBF6C835E#32
  | 67 => 0xBF6A51DA#32
  | 68 => 0xBF6803CA#32
  | 69 => 0xBF659974#32
  | 70 => 0xBF631324#32
  | 71 => 0xBF60712A#32
  | 72 => 0xBF5DB3D7#32
  | 73 => 0xBF5ADB81#32
  | 74 => 0xBF57E880#32
  | 75 => 0xBF54DB31#32
  | 76 => 0xBF51B3F3#32
  | 77 => 0xBF4E7327#32
  | 78 => 0xBF4B1934#32
  | 79 => 0xBF47A682#32
  | 80 => 0xBF441B7D#32
  | 81 => 0xBF407893#32
  | 82 => 0xBF3CBE35#32
  | 83 => 0xBF38ECD8#32
  | 84 => 0xBF3504F3#32
  | 85 => 0xBF310700#32
  | 86 => 0xBF2CF37B#32
  | 87 => 0xBF28CAE3#32
  | 88 => 0xBF248DBB#32
  | 89 => 0xBF203C85#32
  | 90 => 0xBF1BD7CA#32
  | 91 => 0xBF176012#32
  | 92 => 0xBF12D5E8#32
  | 93 => 0xBF0E39DA#32
  | 94 => 0xBF098C78#32
  | 95 => 0xBF04CE53#32
  | 96 => 0xBF000000#32
  | 97 => 0xBEF64429#32
  | 98 => 0xBEEC6A50#32
  | 99 => 0xBEE273AA#32
  | 100 => 0xBED8616C#32
  | 101 => 0xBECE34D0#32
  | 102 => 0xBEC3EF15#32
  | 103 => 0xBEB9917B#32
  | 104 => 0xBEAF1D44#32
  | 105 => 0xBEA493B7#32
  | 106 => 0xBE99F61C#32
  | 107 => 0xBE8F45C0#32
  | 108 => 0xBE8483EE#32
  | 109 => 0xBE7363EE#32
  | 110 => 0xBE5DA259#32
  | 111 => 0xBE47C5C2#32
  | 112 => 0xBE31D0D4#32
  | 113 => 0xBE1BC63C#32
  | 114 => 0xBE05A8A8#32
  | 115 => 0xBDDEF599#32
  | 116 => 0xBDB27EB6#32
  | 117 => 0xBD85F213#32
  | 118 => 0xBD32AA3E#32
  | 119 => 0xBCB2B521#32
  | 120 => 0xA553C9CA#32
  | 121 => 0x3CB2B521#32
  | 122 => 0x3D32AA3E#32
  | 123 => 0x3D85F213#32
  | 124 => 0x3DB27EB6#32
  | 125 => 0x3DDEF599#32
  | 126 => 0x3E05A8A8#32
  | 127 => 0x3E1BC63C#32
  | _ => 0#32

noncomputable abbrev lit0t0_4 (i : Nat) : BitVec 32 := match i % 128 with
  | 0 => 0x3E31D0D4#32
  | 1 => 0x3E47C5C2#32
  | 2 => 0x3E5DA259#32
  | 3 => 0x3E7363EE#32
  | 4 => 0x3E8483EE#32
  | 5 => 0x3E8F45C0#32
  | 6 => 0x3E99F61C#32
  | 7 => 0x3EA493B7#32
  | 8 => 0x3EAF1D44#32
  | 9 => 0x3EB9917B#32
  | 10 => 0x3EC3EF15#32
  | 11 => 0x3ECE34D0#32
  | 12 => 0x3ED8616C#32
  | 13 => 0x3EE273AA#32
  | 14 => 0x3EEC6A50#32
  | 15 => 0x3EF64429#32
  | 16 => 0x3F000000#32
  | 17 => 0x3F04CE53#32
  | 18 => 0x3F098C78#32
  | 19 => 0x3F0E39DA#32
  | 20 => 0x3F12D5E8#32
  | 21 => 0x3F176012#32
  | 22 => 0x3F1BD7CA#32
  | 23 => 0x3F203C85#32
  | 24 => 0x3F248DBB#32
  | 25 => 0x3F28CAE3#32
  | 26 => 0x3F2CF37B#32
  | 27 => 0x3F310700#32
  | 28 => 0x3F3504F3#32
  | 29 => 0x3F38ECD8#32
  | 30 => 0x3F3CBE35#32
  | 31 => 0x3F407893#32
  | 32 => 0x3F441B7D#32
  | 33 => 0x3F47A682#32
  | 34 => 0x3F4B1934#32
  | 35 => 0x3F4E7327#32
  | 36 => 0x3F51B3F3#32
  | 37 => 0x3F54DB31#32
  | 38 => 0x3F57E880#32
  | 39 => 0x3F5ADB81#32
  | 40 => 0x3F5DB3D7#32
  | 41 => 0x3F60712A#32
  | 42 => 0x3F631324#32
  | 43 => 0x3F659974#32
  | 44 => 0x3F6803CA#32
  | 45 => 0x3F6A51DA#32
  | 46 => 0x3F6C835E#32
  | 47 => 0x3F6E9811#32
  | 48 => 0x3F708FB2#32
  | 49 => 0x3F726A03#32
  | 50 => 0x3F7426CB#32
  | 51 => 0x3F75C5D4#32
  | 52 => 0x3F7746EA#32
  | 53 => 0x3F78A9E0#32
  | 54 => 0x3F79EE89#32
  | 55 => 0x3F7B14BE#32
  | 56 => 0x3F7C1C5C#32
  | 57 => 0x3F7D0543#32
  | 58 => 0x3F7DCF55#32
  | 59 => 0x3F7E7A7A#32
  | 60 => 0x3F7F069E#32
  | 61 => 0x3F7F73AF#32
  | 62 => 0x3F7FC1A0#32
  | 63 => 0x3F7FF067#32
  | 64 => 0x3F800000#32
  | 65 => 0x3F7FC1A0#32
  | 66 => 0x3F7F069E#32
  | 67 => 0x3F7DCF55#32
  | 68 => 0x3F7C1C5C#32
  | 69 => 0x3F79EE89#32
  | 70 => 0x3F7746EA#32
  | 71 => 0x3F7426CB#32
  | 72 => 0x3F708FB2#32
  | 73 => 0x3F6C835E#32
  | 74 => 0x3F6803CA#32
  | 75 => 0x3F631324#32
  | 76 => 0x3F5DB3D7#32
  | 77 => 0x3F57E880#32
  | 78 => 0x3F51B3F3#32
  | 79 => 0x3F4B1934#32
  | 80 => 0x3F441B7D#32
  | 81 => 0x3F3CBE35#32
  | 82 => 0x3F3504F3#32
  | 83 => 0x3F2CF37B#32
  | 84 => 0x3F248DBB#32
  | 85 => 0x3F1BD7CA#32
  | 86 => 0x3F12D5E8#32
  | 87 => 0x3F098C78#32
  | 88 => 0x3F000000#32
  | 89 => 0x3EEC6A50#32
  | 90 => 0x3ED8616C#32
  | 91 => 0x3EC3EF15#32
  | 92 => 0x3EAF1D44#32
  | 93 => 0x3E99F61C#32
  | 94 => 0x3E8483EE#32
  | 95 => 0x3E5DA259#32
  | 96 => 0x3E31D0D4#32
  | 97 => 0x3E05A8A8#32
  | 98 => 0x3DB27EB6#32
  | 99 => 0x3D32AA3E#32
  | 100 => 0x248D3132#32
  | 101 => 0xBD32AA3E#32
  | 102 => 0xBDB27EB6#32
  | 103 => 0xBE05A8A8#32
  | 104 => 0xBE31D0D4#32
  | 105 => 0xBE5DA259#32
  | 106 => 0xBE8483EE#32
  | 107 => 0xBE99F61C#32
  | 108 => 0xBEAF1D44#32
  | 109 => 0xBEC3EF15#32
  | 110 => 0xBED8616C#32
  | 111 => 0xBEEC6A50#32
  | 112 => 0xBF000000#32
  | 113 => 0xBF098C78#32
  | 114 => 0xBF12D5E8#32
  | 115 => 0xBF1BD7CA#32
  | 116 => 0xBF248DBB#32
  | 117 => 0xBF2CF37B#32
  | 118 => 0xBF3504F3#32
  | 119 => 0xBF3CBE35#32
  | 120 => 0xBF441B7D#32
  | 121 => 0xBF4B1934#32
  | 122 => 0xBF51B3F3#32
  | 123 => 0xBF57E880#32
  | 124 => 0xBF5DB3D7#32
  | 125 => 0xBF631324#32
  | 126 => 0xBF6803CA#32
  | 127 => 0xBF6C835E#32
  | _ => 0#32

noncomputable abbrev lit0t0_5 (i : Nat) : BitVec 32 := match i % 128 with
  | 0 => 0xBF708FB2#32
  | 1 => 0xBF7426CB#32
  | 2 => 0xBF7746EA#32
  | 3 => 0xBF79EE89#32
  | 4 => 0xBF7C1C5C#32
  | 5 => 0xBF7DCF55#32
  | 6 => 0xBF7F069E#32
  | 7 => 0xBF7FC1A0#32
  | 8 => 0xBF800000#32
  | 9 => 0xBF7FC1A0#32
  | 10 => 0xBF7F069E#32
  | 11 => 0xBF7DCF55#32
  | 12 => 0xBF7C1C5C#32
  | 13 => 0xBF79EE89#32
  | 14 => 0xBF7746EA#32
  | 15 => 0xBF7426CB#32
  | 16 => 0xBF708FB2#32
  | 17 => 0xBF6C835E#32
  | 18 => 0xBF6803CA#32
  | 19 => 0xBF631324#32
  | 20 => 0xBF5DB3D7#32
  | 21 => 0xBF57E880#32
  | 22 => 0xBF51B3F3#32
  | 23 => 0xBF4B1934#32
  | 24 => 0xBF441B7D#32
  | 25 => 0xBF3CBE35#32
  | 26 => 0xBF3504F3#32
  | 27 => 0xBF2CF37B#32
  | 28 => 0xBF248DBB#32
  | 29 => 0xBF1BD7CA#32
  | 30 => 0xBF12D5E8#32
  | 31 => 0xBF098C78#32
  | 32 => 0xBF000000#32
  | 33 => 0xBEEC6A50#32
  | 34 => 0xBED8616C#32
  | 35 => 0xBEC3EF15#32
  | 36 => 0xBEAF1D44#32
  | 37 => 0xBE99F61C#32
  | 38 => 0xBE8483EE#32
  | 39 => 0xBE5DA259#32
  | 40 => 0xBE31D0D4#32
  | 41 => 0xBE05A8A8#32
  | 42 => 0xBDB27EB6#32
  | 43 => 0xBD32AA3E#32
  | 44 => 0xA553C9CA#32
  | 45 => 0x3D32AA3E#32
  | 46 => 0x3DB27EB6#32
  | 47 => 0x3E05A8A8#32
  | 48 => 0x3E31D0D4#32
  | 49 => 0x3E5DA259#32
  | 50 => 0x3E8483EE#32
  | 51 => 0x3E99F61C#32
  | 52 => 0x3EAF1D44#32
  | 53 => 0x3EC3EF15#32
  | 54 => 0x3ED8616C#32
  | 55 => 0x3EEC6A50#32
  | 56 => 0x3F000000#32
  | 57 => 0x3F098C78#32
  | 58 => 0x3F12D5E8#32
  | 59 => 0x3F1BD7CA#32
  | 60 => 0x3F248DBB#32
  | 61 => 0x3F2CF37B#32
  | 62 => 0x3F3504F3#32
  | 63 => 0x3F3CBE35#32
  | 64 => 0x3F441B7D#32
  | 65 => 0x3F4B1934#32
  | 66 => 0x3F51B3F3#32
  | 67 => 0x3F57E880#32
  | 68 => 0x3F5DB3D7#32
  | 69 => 0x3F631324#32
  | 70 => 0x3F6803CA#32
  | 71 => 0x3F6C835E#32
  | 72 => 0x3F708FB2#32
  | 73 => 0x3F7426CB#32
  | 74 => 0x3F7746EA#32
  | 75 => 0x3F79EE89#32
  | 76 => 0x3F7C1C5C#32
  | 77 => 0x3F7DCF55#32
  | 78 => 0x3F7F069E#32
  | 79 => 0x3F7FC1A0#32
  | 80 => 0x3F800000#32
  | 81 => 0x3F7FC1A0#32
  | 82 => 0x3F7F069E#32
  | 83 => 0x3F7DCF55#32
  | 84 => 0x3F7C1C5C#32
  | 85 => 0x3F79EE89#32
  | 86 => 0x3F7746EA#32
  | 87 => 0x3F7426CB#32
  | 88 => 0x3F708FB2#32
  | 89 => 0x3F6C835E#32
  | 90 => 0x3F6803CA#32
  | 91 => 0x3F631324#32
  | 92 => 0x3F5DB3D7#32
  | 93 => 0x3F57E880#32
  | 94 => 0x3F51B3F3#32
  | 95 => 0x3F4B1934#32
  | 96 => 0x3F441B7D#32
  | 97 => 0x3F3CBE35#32
  | 98 => 0x3F3504F3#32
  | 99 => 0x3F2CF37B#32
  | 100 => 0x3F248DBB#32
  | 101 => 0x3F1BD7CA#32
  | 102 => 0x3F12D5E8#32
  | 103 => 0x3F098C78#32
  | 104 => 0x3F000000#32
  | 105 => 0x3EEC6A50#32
  | 106 => 0x3ED8616C#32
  | 107 => 0x3EC3EF15#32
  | 108 => 0x3EAF1D44#32
  | 109 => 0x3E99F61C#32
  | 110 => 0x3E8483EE#32
  | 111 => 0x3E5DA259#32
  | 112 => 0x3E31D0D4#32
  | 113 => 0x3E05A8A8#32
  | 114 => 0x3DB27EB6#32
  | 115 => 0x3D32AA3E#32
  | 116 => 0x248D3132#32
  | 117 => 0xBD32AA3E#32
  | 118 => 0xBDB27EB6#32
  | 119 => 0xBE05A8A8#32
  | 120 => 0xBE31D0D4#32
  | 121 => 0xBE5DA259#32
  | 122 => 0xBE8483EE#32
  | 123 => 0xBE99F61C#32
  | 124 => 0xBEAF1D44#32
  | 125 => 0xBEC3EF15#32
  | 126 => 0xBED8616C#32
  | 127 => 0xBEEC6A50#32
  | _ => 0#32

noncomputable abbrev lit0t0_6 (i : Nat) : BitVec 32 := match i % 128 with
  | 0 => 0xBF000000#32
  | 1 => 0xBF098C78#32
  | 2 => 0xBF12D5E8#32
  | 3 => 0xBF1BD7CA#32
  | 4 => 0xBF248DBB#32
  | 5 => 0xBF2CF37B#32
  | 6 => 0xBF3504F3#32
  | 7 => 0xBF3CBE35#32
  | 8 => 0xBF441B7D#32
  | 9 => 0xBF4B1934#32
  | 10 => 0xBF51B3F3#32
  | 11 => 0xBF57E880#32
  | 12 => 0xBF5DB3D7#32
  | 13 => 0xBF631324#32
  | 14 => 0xBF6803CA#32
  | 15 => 0xBF6C835E#32
  | 16 => 0xBF708FB2#32
  | 17 => 0xBF7426CB#32
  | 18 => 0xBF7746EA#32
  | 19 => 0xBF79EE89#32
  | 20 => 0xBF7C1C5C#32
  | 21 => 0xBF7DCF55#32
  | 22 => 0xBF7F069E#32
  | 23 => 0xBF7FC1A0#32
  | 24 => 0xBF800000#32
  | 25 => 0xBF7FC1A0#32
  | 26 => 0xBF7F069E#32
  | 27 => 0xBF7DCF55#32
  | 28 => 0xBF7C1C5C#32
  | 29 => 0xBF79EE89#32
  | 30 => 0xBF7746EA#32
  | 31 => 0xBF7426CB#32
  | 32 => 0xBF708FB2#32
  | 33 => 0xBF6C835E#32
  | 34 => 0xBF6803CA#32
  | 35 => 0xBF631324#32
  | 36 => 0xBF5DB3D7#32
  | 37 => 0xBF57E880#32
  | 38 => 0xBF51B3F3#32
  | 39 => 0xBF4B1934#32
  | 40 => 0xBF441B7D#32
  | 41 => 0xBF3CBE35#32
  | 42 => 0xBF3504F3#32
  | 43 => 0xBF2CF37B#32
  | 44 => 0xBF248DBB#32
  | 45 => 0xBF1BD7CA#32
  | 46 => 0xBF12D5E8#32
  | 47 => 0xBF098C78#32
  | 48 => 0xBF000000#32
  | 49 => 0xBEEC6A50#32
  | 50 => 0xBED8616C#32
  | 51 => 0xBEC3EF15#32
  | 52 => 0xBEAF1D44#32
  | 53 => 0xBE99F61C#32
  | 54 => 0xBE8483EE#32
  | 55 => 0xBE5DA259#32
  | 56 => 0xBE31D0D4#32
  | 57 => 0xBE05A8A8#32
  | 58 => 0xBDB27EB6#32
  | 59 => 0xBD32AA3E#32
  | 60 => 0xA553C9CA#32
  | 61 => 0x3D32AA3E#32
  | 62 => 0x3DB27EB6#32
  | 63 => 0x3E05A8A8#32
  | 64 => 0x3E31D0D4#32
  | 65 => 0x3E5DA259#32
  | 66 => 0x3E8483EE#32
  | 67 => 0x3E99F61C#32
  | 68 => 0x3EAF1D44#32
  | 69 => 0x3EC3EF15#32
  | 70 => 0x3ED8616C#32
  | 71 => 0x3EEC6A50#32
  | 72 => 0x3F000000#32
  | 73 => 0x3F098C78#32
  | 74 => 0x3F12D5E8#32
  | 75 => 0x3F1BD7CA#32
  | 76 => 0x3F248DBB#32
  | 77 => 0x3F2CF37B#32
  | 78 => 0x3F3504F3#32
  | 79 => 0x3F3CBE35#32
  | 80 => 0x3F441B7D#32
  | 81 => 0x3F4B1934#32
  | 82 => 0x3F51B3F3#32
  | 83 => 0x3F57E880#32
  | 84 => 0x3F5DB3D7#32
  | 85 => 0x3F631324#32
  | 86 => 0x3F6803CA#32
  | 87 => 0x3F6C835E#32
  | 88 => 0x3F708FB2#32
  | 89 => 0x3F7426CB#32
  | 90 => 0x3F7746EA#32
  | 91 => 0x3F79EE89#32
  | 92 => 0x3F7C1C5C#32
  | 93 => 0x3F7DCF55#32
  | 94 => 0x3F7F069E#32
  | 95 => 0x3F7FC1A0#32
  | 96 => 0x3F800000#32
  | 97 => 0x3F7F73AF#32
  | 98 => 0x3F7DCF55#32
  | 99 => 0x3F7B14BE#32
  | 100 => 0x3F7746EA#32
  | 101 => 0x3F726A03#32
  | 102 => 0x3F6C835E#32
  | 103 => 0x3F659974#32
  | 104 => 0x3F5DB3D7#32
  | 105 => 0x3F54DB31#32
  | 106 => 0x3F4B1934#32
  | 107 => 0x3F407893#32
  | 108 => 0x3F3504F3#32
  | 109 => 0x3F28CAE3#32
  | 110 => 0x3F1BD7CA#32
  | 111 => 0x3F0E39DA#32
  | 112 => 0x3F000000#32
  | 113 => 0x3EE273AA#32
  | 114 => 0x3EC3EF15#32
  | 115 => 0x3EA493B7#32
  | 116 => 0x3E8483EE#32
  | 117 => 0x3E47C5C2#32
  | 118 => 0x3E05A8A8#32
  | 119 => 0x3D85F213#32
  | 120 => 0x248D3132#32
  | 121 => 0xBD85F213#32
  | 122 => 0xBE05A8A8#32
  | 123 => 0xBE47C5C2#32
  | 124 => 0xBE8483EE#32
  | 125 => 0xBEA493B7#32
  | 126 => 0xBEC3EF15#32
  | 127 => 0xBEE273AA#32
  | _ => 0#32

noncomputable abbrev lit0t0_7 (i : Nat) : BitVec 32 := match i % 128 with
  | 0 => 0xBF000000#32
  | 1 => 0xBF0E39DA#32
  | 2 => 0xBF1BD7CA#32
  | 3 => 0xBF28CAE3#32
  | 4 => 0xBF3504F3#32
  | 5 => 0xBF407893#32
  | 6 => 0xBF4B1934#32
  | 7 => 0xBF54DB31#32
  | 8 => 0xBF5DB3D7#32
  | 9 => 0xBF659974#32
  | 10 => 0xBF6C835E#32
  | 11 => 0xBF726A03#32
  | 12 => 0xBF7746EA#32
  | 13 => 0xBF7B14BE#32
  | 14 => 0xBF7DCF55#32
  | 15 => 0xBF7F73AF#32
  | 16 => 0xBF800000#32
  | 17 => 0xBF7F73AF#32
  | 18 => 0xBF7DCF55#32
  | 19 => 0xBF7B14BE#32
  | 20 => 0xBF7746EA#32
  | 21 => 0xBF726A03#32
  | 22 => 0xBF6C835E#32
  | 23 => 0xBF659974#32
  | 24 => 0xBF5DB3D7#32
  | 25 => 0xBF54DB31#32
  | 26 => 0xBF4B1934#32
  | 27 => 0xBF407893#32
  | 28 => 0xBF3504F3#32
  | 29 => 0xBF28CAE3#32
  | 30 => 0xBF1BD7CA#32
  | 31 => 0xBF0E39DA#32
  | 32 => 0xBF000000#32
  | 33 => 0xBEE273AA#32
  | 34 => 0xBEC3EF15#32
  | 35 => 0xBEA493B7#32
  | 36 => 0xBE8483EE#32
  | 37 => 0xBE47C5C2#32
  | 38 => 0xBE05A8A8#32
  | 39 => 0xBD85F213#32
  | 40 => 0xA553C9CA#32
  | 41 => 0x3D85F213#32
  | 42 => 0x3E05A8A8#32
  | 43 => 0x3E47C5C2#32
  | 44 => 0x3E8483EE#32
  | 45 => 0x3EA493B7#32
  | 46 => 0x3EC3EF15#32
  | 47 => 0x3EE273AA#32
  | 48 => 0x3F000000#32
  | 49 => 0x3F0E39DA#32
  | 50 => 0x3F1BD7CA#32
  | 51 => 0x3F28CAE3#32
  | 52 => 0x3F3504F3#32
  | 53 => 0x3F407893#32
  | 54 => 0x3F4B1934#32
  | 55 => 0x3F54DB31#32
  | 56 => 0x3F5DB3D7#32
  | 57 => 0x3F659974#32
  | 58 => 0x3F6C835E#32
  | 59 => 0x3F726A03#32
  | 60 => 0x3F7746EA#32
  | 61 => 0x3F7B14BE#32
  | 62 => 0x3F7DCF55#32
  | 63 => 0x3F7F73AF#32
  | 64 => 0x3F800000#32
  | 65 => 0x3F7F73AF#32
  | 66 => 0x3F7DCF55#32
  | 67 => 0x3F7B14BE#32
  | 68 => 0x3F7746EA#32
  | 69 => 0x3F726A03#32
  | 70 => 0x3F6C835E#32
  | 71 => 0x3F659974#32
  | 72 => 0x3F5DB3D7#32
  | 73 => 0x3F54DB31#32
  | 74 => 0x3F4B1934#32
  | 75 => 0x3F407893#32
  | 76 => 0x3F3504F3#32
  | 77 => 0x3F28CAE3#32
  | 78 => 0x3F1BD7CA#32
  | 79 => 0x3F0E39DA#32
  | 80 => 0x3F000000#32
  | 81 => 0x3EE273AA#32
  | 82 => 0x3EC3EF15#32
  | 83 => 0x3EA493B7#32
  | 84 => 0x3E8483EE#32
  | 85 => 0x3E47C5C2#32
  | 86 => 0x3E05A8A8#32
  | 87 => 0x3D85F213#32
  | 88 => 0x248D3132#32
  | 89 => 0xBD85F213#32
  | 90 => 0xBE05A8A8#32
  | 91 => 0xBE47C5C2#32
  | 92 => 0xBE8483EE#32
  | 93 => 0xBEA493B7#32
  | 94 => 0xBEC3EF15#32
  | 95 => 0xBEE273AA#32
  | 96 => 0xBF000000#32
  | 97 => 0xBF0E39DA#32
  | 98 => 0xBF1BD7CA#32
  | 99 => 0xBF28CAE3#32
  | 100 => 0xBF3504F3#32
  | 101 => 0xBF407893#32
  | 102 => 0xBF4B1934#32
  | 103 => 0xBF54DB31#32
  | 104 => 0xBF5DB3D7#32
  | 105 => 0xBF659974#32
  | 106 => 0xBF6C835E#32
  | 107 => 0xBF726A03#32
  | 108 => 0xBF7746EA#32
  | 109 => 0xBF7B14BE#32
  | 110 => 0xBF7DCF55#32
  | 111 => 0xBF7F73AF#32
  | 112 => 0xBF800000#32
  | 113 => 0xBF7F73AF#32
  | 114 => 0xBF7DCF55#32
  | 115 => 0xBF7B14BE#32
  | 116 => 0xBF7746EA#32
  | 117 => 0xBF726A03#32
  | 118 => 0xBF6C835E#32
  | 119 => 0xBF659974#32
  | 120 => 0xBF5DB3D7#32
  | 121 => 0xBF54DB31#32
  | 122 => 0xBF4B1934#32
  | 123 => 0xBF407893#32
  | 124 => 0xBF3504F3#32
  | 125 => 0xBF28CAE3#32
  | 126 => 0xBF1BD7CA#32
  | 127 => 0xBF0E39DA#32
  | _ => 0#32

noncomputable abbrev lit0t0_8 (i : Nat) : BitVec 32 := match i % 128 with
  | 0 => 0xBF000000#32
  | 1 => 0xBEE273AA#32
  | 2 => 0xBEC3EF15#32
  | 3 => 0xBEA493B7#32
  | 4 => 0xBE8483EE#32
  | 5 => 0xBE47C5C2#32
  | 6 => 0xBE05A8A8#32
  | 7 => 0xBD85F213#32
  | 8 => 0xA553C9CA#32
  | 9 => 0x3D85F213#32
  | 10 => 0x3E05A8A8#32
  | 11 => 0x3E47C5C2#32
  | 12 => 0x3E8483EE#32
  | 13 => 0x3EA493B7#32
  | 14 => 0x3EC3EF15#32
  | 15 => 0x3EE273AA#32
  | 16 => 0x3F000000#32
  | 17 => 0x3F0E39DA#32
  | 18 => 0x3F1BD7CA#32
  | 19 => 0x3F28CAE3#32
  | 20 => 0x3F3504F3#32
  | 21 => 0x3F407893#32
  | 22 => 0x3F4B1934#32
  | 23 => 0x3F54DB31#32
  | 24 => 0x3F5DB3D7#32
  | 25 => 0x3F659974#32
  | 26 => 0x3F6C835E#32
  | 27 => 0x3F726A03#32
  | 28 => 0x3F7746EA#32
  | 29 => 0x3F7B14BE#32
  | 30 => 0x3F7DCF55#32
  | 31 => 0x3F7F73AF#32
  | 32 => 0x3F800000#32
  | 33 => 0x3F7F73AF#32
  | 34 => 0x3F7DCF55#32
  | 35 => 0x3F7B14BE#32
  | 36 => 0x3F7746EA#32
  | 37 => 0x3F726A03#32
  | 38 => 0x3F6C835E#32
  | 39 => 0x3F659974#32
  | 40 => 0x3F5DB3D7#32
  | 41 => 0x3F54DB31#32
  | 42 => 0x3F4B1934#32
  | 43 => 0x3F407893#32
  | 44 => 0x3F3504F3#32
  | 45 => 0x3F28CAE3#32
  | 46 => 0x3F1BD7CA#32
  | 47 => 0x3F0E39DA#32
  | 48 => 0x3F000000#32
  | 49 => 0x3EE273AA#32
  | 50 => 0x3EC3EF15#32
  | 51 => 0x3EA493B7#32
  | 52 => 0x3E8483EE#32
  | 53 => 0x3E47C5C2#32
  | 54 => 0x3E05A8A8#32
  | 55 => 0x3D85F213#32
  | 56 => 0x248D3132#32
  | 57 => 0xBD85F213#32
  | 58 => 0xBE05A8A8#32
  | 59 => 0xBE47C5C2#32
  | 60 => 0xBE8483EE#32
  | 61 => 0xBEA493B7#32
  | 62 => 0xBEC3EF15#32
  | 63 => 0xBEE273AA#32
  | 64 => 0xBF000000#32
  | 65 => 0xBF0E39DA#32
  | 66 => 0xBF1BD7CA#32
  | 67 => 0xBF28CAE3#32
  | 68 => 0xBF3504F3#32
  | 69 => 0xBF407893#32
  | 70 => 0xBF4B1934#32
  | 71 => 0xBF54DB31#32
  | 72 => 0xBF5DB3D7#32
  | 73 => 0xBF659974#32
  | 74 => 0xBF6C835E#32
  | 75 => 0xBF726A03#32
  | 76 => 0xBF7746EA#32
  | 77 => 0xBF7B14BE#32
  | 78 => 0xBF7DCF55#32
  | 79 => 0xBF7F73AF#32
  | 80 => 0xBF800000#32
  | 81 => 0xBF7F73AF#32
  | 82 => 0xBF7DCF55#32
  | 83 => 0xBF7B14BE#32
  | 84 => 0xBF7746EA#32
  | 85 => 0xBF726A03#32
  | 86 => 0xBF6C835E#32
  | 87 => 0xBF659974#32
  | 88 => 0xBF5DB3D7#32
  | 89 => 0xBF54DB31#32
  | 90 => 0xBF4B1934#32
  | 91 => 0xBF407893#32
  | 92 => 0xBF3504F3#32
  | 93 => 0xBF28CAE3#32
  | 94 => 0xBF1BD7CA#32
  | 95 => 0xBF0E39DA#32
  | 96 => 0xBF000000#32
  | 97 => 0xBEE273AA#32
  | 98 => 0xBEC3EF15#32
  | 99 => 0xBEA493B7#32
  | 100 => 0xBE8483EE#32
  | 101 => 0xBE47C5C2#32
  | 102 => 0xBE05A8A8#32
  | 103 => 0xBD85F213#32
  | 104 => 0xA553C9CA#32
  | 105 => 0x3D85F213#32
  | 106 => 0x3E05A8A8#32
  | 107 => 0x3E47C5C2#32
  | 108 => 0x3E8483EE#32
  | 109 => 0x3EA493B7#32
  | 110 => 0x3EC3EF15#32
  | 111 => 0x3EE273AA#32
  | 112 => 0x3F000000#32
  | 113 => 0x3F0E39DA#32
  | 114 => 0x3F1BD7CA#32
  | 115 => 0x3F28CAE3#32
  | 116 => 0x3F3504F3#32
  | 117 => 0x3F407893#32
  | 118 => 0x3F4B1934#32
  | 119 => 0x3F54DB31#32
  | 120 => 0x3F5DB3D7#32
  | 121 => 0x3F659974#32
  | 122 => 0x3F6C835E#32
  | 123 => 0x3F726A03#32
  | 124 => 0x3F7746EA#32
  | 125 => 0x3F7B14BE#32
  | 126 => 0x3F7DCF55#32
  | 127 => 0x3F7F73AF#32
  | _ => 0#32

noncomputable abbrev lit0t0_9 (i : Nat) : BitVec 32 := match i % 128 with
  | 0 => 0x3F800000#32
  | 1 => 0x3F7F069E#32
  | 2 => 0x3F7C1C5C#32
  | 3 => 0x3F7746EA#32
  | 4 => 0x3F708FB2#32
  | 5 => 0x3F6803CA#32
  | 6 => 0x3F5DB3D7#32
  | 7 => 0x3F51B3F3#32
  | 8 => 0x3F441B7D#32
  | 9 => 0x3F3504F3#32
  | 10 => 0x3F248DBB#32
  | 11 => 0x3F12D5E8#32
  | 12 => 0x3F000000#32
  | 13 => 0x3ED8616C#32
  | 14 => 0x3EAF1D44#32
  | 15 => 0x3E8483EE#32
  | 16 => 0x3E31D0D4#32
  | 17 => 0x3DB27EB6#32
  | 18 => 0x248D3132#32
  | 19 => 0xBDB27EB6#32
  | 20 => 0xBE31D0D4#32
  | 21 => 0xBE8483EE#32
  | 22 => 0xBEAF1D44#32
  | 23 => 0xBED8616C#32
  | 24 => 0xBF000000#32
  | 25 => 0xBF12D5E8#32
  | 26 => 0xBF248DBB#32
  | 27 => 0xBF3504F3#32
  | 28 => 0xBF441B7D#32
  | 29 => 0xBF51B3F3#32
  | 30 => 0xBF5DB3D7#32
  | 31 => 0xBF6803CA#32
  | 32 => 0xBF708FB2#32
  | 33 => 0xBF7746EA#32
  | 34 => 0xBF7C1C5C#32
  | 35 => 0xBF7F069E#32
  | 36 => 0xBF800000#32
  | 37 => 0xBF7F069E#32
  | 38 => 0xBF7C1C5C#32
  | 39 => 0xBF7746EA#32
  | 40 => 0xBF708FB2#32
  | 41 => 0xBF6803CA#32
  | 42 => 0xBF5DB3D7#32
  | 43 => 0xBF51B3F3#32
  | 44 => 0xBF441B7D#32
  | 45 => 0xBF3504F3#32
  | 46 => 0xBF248DBB#32
  | 47 => 0xBF12D5E8#32
  | 48 => 0xBF000000#32
  | 49 => 0xBED8616C#32
  | 50 => 0xBEAF1D44#32
  | 51 => 0xBE8483EE#32
  | 52 => 0xBE31D0D4#32
  | 53 => 0xBDB27EB6#32
  | 54 => 0xA553C9CA#32
  | 55 => 0x3DB27EB6#32
  | 56 => 0x3E31D0D4#32
  | 57 => 0x3E8483EE#32
  | 58 => 0x3EAF1D44#32
  | 59 => 0x3ED8616C#32
  | 60 => 0x3F000000#32
  | 61 => 0x3F12D5E8#32
  | 62 => 0x3F248DBB#32
  | 63 => 0x3F3504F3#32
  | 64 => 0x3F441B7D#32
  | 65 => 0x3F51B3F3#32
  | 66 => 0x3F5DB3D7#32
  | 67 => 0x3F6803CA#32
  | 68 => 0x3F708FB2#32
  | 69 => 0x3F7746EA#32
  | 70 => 0x3F7C1C5C#32
  | 71 => 0x3F7F069E#32
  | 72 => 0x3F800000#32
  | 73 => 0x3F7F069E#32
  | 74 => 0x3F7C1C5C#32
  | 75 => 0x3F7746EA#32
  | 76 => 0x3F708FB2#32
  | 77 => 0x3F6803CA#32
  | 78 => 0x3F5DB3D7#32
  | 79 => 0x3F51B3F3#32
  | 80 => 0x3F441B7D#32
  | 81 => 0x3F3504F3#32
  | 82 => 0x3F248DBB#32
  | 83 => 0x3F12D5E8#32
  | 84 => 0x3F000000#32
  | 85 => 0x3ED8616C#32
  | 86 => 0x3EAF1D44#32
  | 87 => 0x3E8483EE#32
  | 88 => 0x3E31D0D4#32
  | 89 => 0x3DB27EB6#32
  | 90 => 0x248D3132#32
  | 91 => 0xBDB27EB6#32
  | 92 => 0xBE31D0D4#32
  | 93 => 0xBE8483EE#32
  | 94 => 0xBEAF1D44#32
  | 95 => 0xBED8616C#32
  | 96 => 0xBF000000#32
  | 97 => 0xBF12D5E8#32
  | 98 => 0xBF248DBB#32
  | 99 => 0xBF3504F3#32
  | 100 => 0xBF441B7D#32
  | 101 => 0xBF51B3F3#32
  | 102 => 0xBF5DB3D7#32
  | 103 => 0xBF6803CA#32
  | 104 => 0xBF708FB2#32
  | 105 => 0xBF7746EA#32
  | 106 => 0xBF7C1C5C#32
  | 107 => 0xBF7F069E#32
  | 108 => 0xBF800000#32
  | 109 => 0xBF7F069E#32
  | 110 => 0xBF7C1C5C#32
  | 111 => 0xBF7746EA#32
  | 112 => 0xBF708FB2#32
  | 113 => 0xBF6803CA#32
  | 114 => 0xBF5DB3D7#32
  | 115 => 0xBF51B3F3#32
  | 116 => 0xBF441B7D#32
  | 117 => 0xBF3504F3#32
  | 118 => 0xBF248DBB#32
  | 119 => 0xBF12D5E8#32
  | 120 => 0xBF000000#32
  | 121 => 0xBED8616C#32
  | 122 => 0xBEAF1D44#32
  | 123 => 0xBE8483EE#32
  | 124 => 0xBE31D0D4#32
  | 125 => 0xBDB27EB6#32
  | 126 => 0xA553C9CA#32
  | 127 => 0x3DB27EB6#32
  | _ => 0#32

noncomputable abbrev lit0t0_10 (i : Nat) : BitVec 32 := match i % 128 with
  | 0 => 0x3E31D0D4#32
  | 1 => 0x3E8483EE#32
  | 2 => 0x3EAF1D44#32
  | 3 => 0x3ED8616C#32
  | 4 => 0x3F000000#32
  | 5 => 0x3F12D5E8#32
  | 6 => 0x3F248DBB#32
  | 7 => 0x3F3504F3#32
  | 8 => 0x3F441B7D#32
  | 9 => 0x3F51B3F3#32
  | 10 => 0x3F5DB3D7#32
  | 11 => 0x3F6803CA#32
  | 12 => 0x3F708FB2#32
  | 13 => 0x3F7746EA#32
  | 14 => 0x3F7C1C5C#32
  | 15 => 0x3F7F069E#32
  | 16 => 0x3F800000#32
  | 17 => 0x3F7F069E#32
  | 18 => 0x3F7C1C5C#32
  | 19 => 0x3F7746EA#32
  | 20 => 0x3F708FB2#32
  | 21 => 0x3F6803CA#32
  | 22 => 0x3F5DB3D7#32
  | 23 => 0x3F51B3F3#32
  | 24 => 0x3F441B7D#32
  | 25 => 0x3F3504F3#32
  | 26 => 0x3F248DBB#32
  | 27 => 0x3F12D5E8#32
  | 28 => 0x3F000000#32
  | 29 => 0x3ED8616C#32
  | 30 => 0x3EAF1D44#32
  | 31 => 0x3E8483EE#32
  | 32 => 0x3E31D0D4#32
  | 33 => 0x3DB27EB6#32
  | 34 => 0x248D3132#32
  | 35 => 0xBDB27EB6#32
  | 36 => 0xBE31D0D4#32
  | 37 => 0xBE8483EE#32
  | 38 => 0xBEAF1D44#32
  | 39 => 0xBED8616C#32
  | 40 => 0xBF000000#32
  | 41 => 0xBF12D5E8#32
  | 42 => 0xBF248DBB#32
  | 43 => 0xBF3504F3#32
  | 44 => 0xBF441B7D#32
  | 45 => 0xBF51B3F3#32
  | 46 => 0xBF5DB3D7#32
  | 47 => 0xBF6803CA#32
  | 48 => 0xBF708FB2#32
  | 49 => 0xBF7746EA#32
  | 50 => 0xBF7C1C5C#32
  | 51 => 0xBF7F069E#32
  | 52 => 0xBF800000#32
  | 53 => 0xBF7F069E#32
  | 54 => 0xBF7C1C5C#32
  | 55 => 0xBF7746EA#32
  | 56 => 0xBF708FB2#32
  | 57 => 0xBF6803CA#32
  | 58 => 0xBF5DB3D7#32
  | 59 => 0xBF51B3F3#32
  | 60 => 0xBF441B7D#32
  | 61 => 0xBF3504F3#32
  | 62 => 0xBF248DBB#32
  | 63 => 0xBF12D5E8#32
  | 64 => 0xBF000000#32
  | 65 => 0xBED8616C#32
  | 66 => 0xBEAF1D44#32
  | 67 => 0xBE8483EE#32
  | 68 => 0xBE31D0D4#32
  | 69 => 0xBDB27EB6#32
  | 70 => 0xA553C9CA#32
  | 71 => 0x3DB27EB6#32
  | 72 => 0x3E31D0D4#32
  | 73 => 0x3E8483EE#32
  | 74 => 0x3EAF1D44#32
  | 75 => 0x3ED8616C#32
  | 76 => 0x3F000000#32
  | 77 => 0x3F12D5E8#32
  | 78 => 0x3F248DBB#32
  | 79 => 0x3F3504F3#32
  | 80 => 0x3F441B7D#32
  | 81 => 0x3F51B3F3#32
  | 82 => 0x3F5DB3D7#32
  | 83 => 0x3F6803CA#32
  | 84 => 0x3F708FB2#32
  | 85 => 0x3F7746EA#32
  | 86 => 0x3F7C1C5C#32
  | 87 => 0x3F7F069E#32
  | 88 => 0x3F800000#32
  | 89 => 0x3F7F069E#32
  | 90 => 0x3F7C1C5C#32
  | 91 => 0x3F7746EA#32
  | 92 => 0x3F708FB2#32
  | 93 => 0x3F6803CA#32
  | 94 => 0x3F5DB3D7#32
  | 95 => 0x3F51B3F3#32
  | 96 => 0x3F441B7D#32
  | 97 => 0x3F3504F3#32
  | 98 => 0x3F248DBB#32
  | 99 => 0x3F12D5E8#32
  | 100 => 0x3F000000#32
  | 101 => 0x3ED8616C#32
  | 102 => 0x3EAF1D44#32
  | 103 => 0x3E8483EE#32
  | 104 => 0x3E31D0D4#32
  | 105 => 0x3DB27EB6#32
  | 106 => 0x248D3132#32
  | 107 => 0xBDB27EB6#32
  | 108 => 0xBE31D0D4#32
  | 109 => 0xBE8483EE#32
  | 110 => 0xBEAF1D44#32
  | 111 => 0xBED8616C#32
  | 112 => 0xBF000000#32
  | 113 => 0xBF12D5E8#32
  | 114 => 0xBF248DBB#32
  | 115 => 0xBF3504F3#32
  | 116 => 0xBF441B7D#32
  | 117 => 0xBF51B3F3#32
  | 118 => 0xBF5DB3D7#32
  | 119 => 0xBF6803CA#32
  | 120 => 0xBF708FB2#32
  | 121 => 0xBF7746EA#32
  | 122 => 0xBF7C1C5C#32
  | 123 => 0xBF7F069E#32
  | 124 => 0xBF800000#32
  | 125 => 0xBF7F069E#32
  | 126 => 0xBF7C1C5C#32
  | 127 => 0xBF7746EA#32
  | _ => 0#32

noncomputable abbrev lit0t0_11 (i : Nat) : BitVec 32 := match i % 128 with
  | 0 => 0xBF708FB2#32
  | 1 => 0xBF6803CA#32
  | 2 => 0xBF5DB3D7#32
  | 3 => 0xBF51B3F3#32
  | 4 => 0xBF441B7D#32
  | 5 => 0xBF3504F3#32
  | 6 => 0xBF248DBB#32
  | 7 => 0xBF12D5E8#32
  | 8 => 0xBF000000#32
  | 9 => 0xBED8616C#32
  | 10 => 0xBEAF1D44#32
  | 11 => 0xBE8483EE#32
  | 12 => 0xBE31D0D4#32
  | 13 => 0xBDB27EB6#32
  | 14 => 0xA553C9CA#32
  | 15 => 0x3DB27EB6#32
  | 16 => 0x3E31D0D4#32
  | 17 => 0x3E8483EE#32
  | 18 => 0x3EAF1D44#32
  | 19 => 0x3ED8616C#32
  | 20 => 0x3F000000#32
  | 21 => 0x3F12D5E8#32
  | 22 => 0x3F248DBB#32
  | 23 => 0x3F3504F3#32
  | 24 => 0x3F441B7D#32
  | 25 => 0x3F51B3F3#32
  | 26 => 0x3F5DB3D7#32
  | 27 => 0x3F6803CA#32
  | 28 => 0x3F708FB2#32
  | 29 => 0x3F7746EA#32
  | 30 => 0x3F7C1C5C#32
  | 31 => 0x3F7F069E#32
  | 32 => 0x3F800000#32
  | 33 => 0x3F7E7A7A#32
  | 34 => 0x3F79EE89#32
  | 35 => 0x3F726A03#32
  | 36 => 0x3F6803CA#32
  | 37 => 0x3F5ADB81#32
  | 38 => 0x3F4B1934#32
  | 39 => 0x3F38ECD8#32
  | 40 => 0x3F248DBB#32
  | 41 => 0x3F0E39DA#32
  | 42 => 0x3EEC6A50#32
  | 43 => 0x3EB9917B#32
  | 44 => 0x3E8483EE#32
  | 45 => 0x3E1BC63C#32
  | 46 => 0x3D32AA3E#32
  | 47 => 0xBD85F213#32
  | 48 => 0xBE31D0D4#32
  | 49 => 0xBE8F45C0#32
  | 50 => 0xBEC3EF15#32
  | 51 => 0xBEF64429#32
  | 52 => 0xBF12D5E8#32
  | 53 => 0xBF28CAE3#32
  | 54 => 0xBF3CBE35#32
  | 55 => 0xBF4E7327#32
  | 56 => 0xBF5DB3D7#32
  | 57 => 0xBF6A51DA#32
  | 58 => 0xBF7426CB#32
  | 59 => 0xBF7B14BE#32
  | 60 => 0xBF7F069E#32
  | 61 => 0xBF7FF067#32
  | 62 => 0xBF7DCF55#32
  | 63 => 0xBF78A9E0#32
  | 64 => 0xBF708FB2#32
  | 65 => 0xBF659974#32
  | 66 => 0xBF57E880#32
  | 67 => 0xBF47A682#32
  | 68 => 0xBF3504F3#32
  | 69 => 0xBF203C85#32
  | 70 => 0xBF098C78#32
  | 71 => 0xBEE273AA#32
  | 72 => 0xBEAF1D44#32
  | 73 => 0xBE7363EE#32
  | 74 => 0xBE05A8A8#32
  | 75 => 0xBCB2B521#32
  | 76 => 0x3DB27EB6#32
  | 77 => 0x3E47C5C2#32
  | 78 => 0x3E99F61C#32
  | 79 => 0x3ECE34D0#32
  | 80 => 0x3F000000#32
  | 81 => 0x3F176012#32
  | 82 => 0x3F2CF37B#32
  | 83 => 0x3F407893#32
  | 84 => 0x3F51B3F3#32
  | 85 => 0x3F60712A#32
  | 86 => 0x3F6C835E#32
  | 87 => 0x3F75C5D4#32
  | 88 => 0x3F7C1C5C#32
  | 89 => 0x3F7F73AF#32
  | 90 => 0x3F7FC1A0#32
  | 91 => 0x3F7D0543#32
  | 92 => 0x3F7746EA#32
  | 93 => 0x3F6E9811#32
  | 94 => 0x3F631324#32
  | 95 => 0x3F54DB31#32
  | 96 => 0x3F441B7D#32
  | 97 => 0x3F310700#32
  | 98 => 0x3F1BD7CA#32
  | 99 => 0x3F04CE53#32
  | 100 => 0x3ED8616C#32
  | 101 => 0x3EA493B7#32
  | 102 => 0x3E5DA259#32
  | 103 => 0x3DDEF599#32
  | 104 => 0x248D3132#32
  | 105 => 0xBDDEF599#32
  | 106 => 0xBE5DA259#32
  | 107 => 0xBEA493B7#32
  | 108 => 0xBED8616C#32
  | 109 => 0xBF04CE53#32
  | 110 => 0xBF1BD7CA#32
  | 111 => 0xBF310700#32
  | 112 => 0xBF441B7D#32
  | 113 => 0xBF54DB31#32
  | 114 => 0xBF631324#32
  | 115 => 0xBF6E9811#32
  | 116 => 0xBF7746EA#32
  | 117 => 0xBF7D0543#32
  | 118 => 0xBF7FC1A0#32
  | 119 => 0xBF7F73AF#32
  | 120 => 0xBF7C1C5C#32
  | 121 => 0xBF75C5D4#32
  | 122 => 0xBF6C835E#32
  | 123 => 0xBF60712A#32
  | 124 => 0xBF51B3F3#32
  | 125 => 0xBF407893#32
  | 126 => 0xBF2CF37B#32
  | 127 => 0xBF176012#32
  | _ => 0#32

noncomputable abbrev lit0t0_12 (i : Nat) : BitVec 32 := match i % 128 with
  | 0 => 0xBF000000#32
  | 1 => 0xBECE34D0#32
  | 2 => 0xBE99F61C#32
  | 3 => 0xBE47C5C2#32
  | 4 => 0xBDB27EB6#32
  | 5 => 0x3CB2B521#32
  | 6 => 0x3E05A8A8#32
  | 7 => 0x3E7363EE#32
  | 8 => 0x3EAF1D44#32
  | 9 => 0x3EE273AA#32
  | 10 => 0x3F098C78#32
  | 11 => 0x3F203C85#32
  | 12 => 0x3F3504F3#32
  | 13 => 0x3F47A682#32
  | 14 => 0x3F57E880#32
  | 15 => 0x3F659974#32
  | 16 => 0x3F708FB2#32
  | 17 => 0x3F78A9E0#32
  | 18 => 0x3F7DCF55#32
  | 19 => 0x3F7FF067#32
  | 20 => 0x3F7F069E#32
  | 21 => 0x3F7B14BE#32
  | 22 => 0x3F7426CB#32
  | 23 => 0x3F6A51DA#32
  | 24 => 0x3F5DB3D7#32
  | 25 => 0x3F4E7327#32
  | 26 => 0x3F3CBE35#32
  | 27 => 0x3F28CAE3#32
  | 28 => 0x3F12D5E8#32
  | 29 => 0x3EF64429#32
  | 30 => 0x3EC3EF15#32
  | 31 => 0x3E8F45C0#32
  | 32 => 0x3E31D0D4#32
  | 33 => 0x3D85F213#32
  | 34 => 0xBD32AA3E#32
  | 35 => 0xBE1BC63C#32
  | 36 => 0xBE8483EE#32
  | 37 => 0xBEB9917B#32
  | 38 => 0xBEEC6A50#32
  | 39 => 0xBF0E39DA#32
  | 40 => 0xBF248DBB#32
  | 41 => 0xBF38ECD8#32
  | 42 => 0xBF4B1934#32
  | 43 => 0xBF5ADB81#32
  | 44 => 0xBF6803CA#32
  | 45 => 0xBF726A03#32
  | 46 => 0xBF79EE89#32
  | 47 => 0xBF7E7A7A#32
  | 48 => 0xBF800000#32
  | 49 => 0xBF7E7A7A#32
  | 50 => 0xBF79EE89#32
  | 51 => 0xBF726A03#32
  | 52 => 0xBF6803CA#32
  | 53 => 0xBF5ADB81#32
  | 54 => 0xBF4B1934#32
  | 55 => 0xBF38ECD8#32
  | 56 => 0xBF248DBB#32
  | 57 => 0xBF0E39DA#32
  | 58 => 0xBEEC6A50#32
  | 59 => 0xBEB9917B#32
  | 60 => 0xBE8483EE#32
  | 61 => 0xBE1BC63C#32
  | 62 => 0xBD32AA3E#32
  | 63 => 0x3D85F213#32
  | 64 => 0x3E31D0D4#32
  | 65 => 0x3E8F45C0#32
  | 66 => 0x3EC3EF15#32
  | 67 => 0x3EF64429#32
  | 68 => 0x3F12D5E8#32
  | 69 => 0x3F28CAE3#32
  | 70 => 0x3F3CBE35#32
  | 71 => 0x3F4E7327#32
  | 72 => 0x3F5DB3D7#32
  | 73 => 0x3F6A51DA#32
  | 74 => 0x3F7426CB#32
  | 75 => 0x3F7B14BE#32
  | 76 => 0x3F7F069E#32
  | 77 => 0x3F7FF067#32
  | 78 => 0x3F7DCF55#32
  | 79 => 0x3F78A9E0#32
  | 80 => 0x3F708FB2#32
  | 81 => 0x3F659974#32
  | 82 => 0x3F57E880#32
  | 83 => 0x3F47A682#32
  | 84 => 0x3F3504F3#32
  | 85 => 0x3F203C85#32
  | 86 => 0x3F098C78#32
  | 87 => 0x3EE273AA#32
  | 88 => 0x3EAF1D44#32
  | 89 => 0x3E7363EE#32
  | 90 => 0x3E05A8A8#32
  | 91 => 0x3CB2B521#32
  | 92 => 0xBDB27EB6#32
  | 93 => 0xBE47C5C2#32
  | 94 => 0xBE99F61C#32
  | 95 => 0xBECE34D0#32
  | 96 => 0xBF000000#32
  | 97 => 0xBF176012#32
  | 98 => 0xBF2CF37B#32
  | 99 => 0xBF407893#32
  | 100 => 0xBF51B3F3#32
  | 101 => 0xBF60712A#32
  | 102 => 0xBF6C835E#32
  | 103 => 0xBF75C5D4#32
  | 104 => 0xBF7C1C5C#32
  | 105 => 0xBF7F73AF#32
  | 106 => 0xBF7FC1A0#32
  | 107 => 0xBF7D0543#32
  | 108 => 0xBF7746EA#32
  | 109 => 0xBF6E9811#32
  | 110 => 0xBF631324#32
  | 111 => 0xBF54DB31#32
  | 112 => 0xBF441B7D#32
  | 113 => 0xBF310700#32
  | 114 => 0xBF1BD7CA#32
  | 115 => 0xBF04CE53#32
  | 116 => 0xBED8616C#32
  | 117 => 0xBEA493B7#32
  | 118 => 0xBE5DA259#32
  | 119 => 0xBDDEF599#32
  | 120 => 0xA553C9CA#32
  | 121 => 0x3DDEF599#32
  | 122 => 0x3E5DA259#32
  | 123 => 0x3EA493B7#32
  | 124 => 0x3ED8616C#32
  | 125 => 0x3F04CE53#32
  | 126 => 0x3F1BD7CA#32
  | 127 => 0x3F310700#32
  | _ => 0#32

noncomputable abbrev lit0t0_13 (i : Nat) : BitVec 32 := match i % 128 with
  | 0 => 0x3F441B7D#32
  | 1 => 0x3F54DB31#32
  | 2 => 0x3F631324#32
  | 3 => 0x3F6E9811#32
  | 4 => 0x3F7746EA#32
  | 5 => 0x3F7D0543#32
  | 6 => 0x3F7FC1A0#32
  | 7 => 0x3F7F73AF#32
  | 8 => 0x3F7C1C5C#32
  | 9 => 0x3F75C5D4#32
  | 10 => 0x3F6C835E#32
  | 11 => 0x3F60712A#32
  | 12 => 0x3F51B3F3#32
  | 13 => 0x3F407893#32
  | 14 => 0x3F2CF37B#32
  | 15 => 0x3F176012#32
  | 16 => 0x3F000000#32
  | 17 => 0x3ECE34D0#32
  | 18 => 0x3E99F61C#32
  | 19 => 0x3E47C5C2#32
  | 20 => 0x3DB27EB6#32
  | 21 => 0xBCB2B521#32
  | 22 => 0xBE05A8A8#32
  | 23 => 0xBE7363EE#32
  | 24 => 0xBEAF1D44#32
  | 25 => 0xBEE273AA#32
  | 26 => 0xBF098C78#32
  | 27 => 0xBF203C85#32
  | 28 => 0xBF3504F3#32
  | 29 => 0xBF47A682#32
  | 30 => 0xBF57E880#32
  | 31 => 0xBF659974#32
  | 32 => 0xBF708FB2#32
  | 33 => 0xBF78A9E0#32
  | 34 => 0xBF7DCF55#32
  | 35 => 0xBF7FF067#32
  | 36 => 0xBF7F069E#32
  | 37 => 0xBF7B14BE#32
  | 38 => 0xBF7426CB#32
  | 39 => 0xBF6A51DA#32
  | 40 => 0xBF5DB3D7#32
  | 41 => 0xBF4E7327#32
  | 42 => 0xBF3CBE35#32
  | 43 => 0xBF28CAE3#32
  | 44 => 0xBF12D5E8#32
  | 45 => 0xBEF64429#32
  | 46 => 0xBEC3EF15#32
  | 47 => 0xBE8F45C0#32
  | 48 => 0xBE31D0D4#32
  | 49 => 0xBD85F213#32
  | 50 => 0x3D32AA3E#32
  | 51 => 0x3E1BC63C#32
  | 52 => 0x3E8483EE#32
  | 53 => 0x3EB9917B#32
  | 54 => 0x3EEC6A50#32
  | 55 => 0x3F0E39DA#32
  | 56 => 0x3F248DBB#32
  | 57 => 0x3F38ECD8#32
  | 58 => 0x3F4B1934#32
  | 59 => 0x3F5ADB81#32
  | 60 => 0x3F6803CA#32
  | 61 => 0x3F726A03#32
  | 62 => 0x3F79EE89#32
  | 63 => 0x3F7E7A7A#32
  | 64 => 0x3F800000#32
  | 65 => 0x3F7DCF55#32
  | 66 => 0x3F7746EA#32
  | 67 => 0x3F6C835E#32
  | 68 => 0x3F5DB3D7#32
  | 69 => 0x3F4B1934#32
  | 70 => 0x3F3504F3#32
  | 71 => 0x3F1BD7CA#32
  | 72 => 0x3F000000#32
  | 73 => 0x3EC3EF15#32
  | 74 => 0x3E8483EE#32
  | 75 => 0x3E05A8A8#32
  | 76 => 0x248D3132#32
  | 77 => 0xBE05A8A8#32
  | 78 => 0xBE8483EE#32
  | 79 => 0xBEC3EF15#32
  | 80 => 0xBF000000#32
  | 81 => 0xBF1BD7CA#32
  | 82 => 0xBF3504F3#32
  | 83 => 0xBF4B1934#32
  | 84 => 0xBF5DB3D7#32
  | 85 => 0xBF6C835E#32
  | 86 => 0xBF7746EA#32
  | 87 => 0xBF7DCF55#32
  | 88 => 0xBF800000#32
  | 89 => 0xBF7DCF55#32
  | 90 => 0xBF7746EA#32
  | 91 => 0xBF6C835E#32
  | 92 => 0xBF5DB3D7#32
  | 93 => 0xBF4B1934#32
  | 94 => 0xBF3504F3#32
  | 95 => 0xBF1BD7CA#32
  | 96 => 0xBF000000#32
  | 97 => 0xBEC3EF15#32
  | 98 => 0xBE8483EE#32
  | 99 => 0xBE05A8A8#32
  | 100 => 0xA553C9CA#32
  | 101 => 0x3E05A8A8#32
  | 102 => 0x3E8483EE#32
  | 103 => 0x3EC3EF15#32
  | 104 => 0x3F000000#32
  | 105 => 0x3F1BD7CA#32
  | 106 => 0x3F3504F3#32
  | 107 => 0x3F4B1934#32
  | 108 => 0x3F5DB3D7#32
  | 109 => 0x3F6C835E#32
  | 110 => 0x3F7746EA#32
  | 111 => 0x3F7DCF55#32
  | 112 => 0x3F800000#32
  | 113 => 0x3F7DCF55#32
  | 114 => 0x3F7746EA#32
  | 115 => 0x3F6C835E#32
  | 116 => 0x3F5DB3D7#32
  | 117 => 0x3F4B1934#32
  | 118 => 0x3F3504F3#32
  | 119 => 0x3F1BD7CA#32
  | 120 => 0x3F000000#32
  | 121 => 0x3EC3EF15#32
  | 122 => 0x3E8483EE#32
  | 123 => 0x3E05A8A8#32
  | 124 => 0x248D3132#32
  | 125 => 0xBE05A8A8#32
  | 126 => 0xBE8483EE#32
  | 127 => 0xBEC3EF15#32
  | _ => 0#32

noncomputable abbrev lit0t0_14 (i : Nat) : BitVec 32 := match i % 128 with
  | 0 => 0xBF000000#32
  | 1 => 0xBF1BD7CA#32
  | 2 => 0xBF3504F3#32
  | 3 => 0xBF4B1934#32
  | 4 => 0xBF5DB3D7#32
  | 5 => 0xBF6C835E#32
  | 6 => 0xBF7746EA#32
  | 7 => 0xBF7DCF55#32
  | 8 => 0xBF800000#32
  | 9 => 0xBF7DCF55#32
  | 10 => 0xBF7746EA#32
  | 11 => 0xBF6C835E#32
  | 12 => 0xBF5DB3D7#32
  | 13 => 0xBF4B1934#32
  | 14 => 0xBF3504F3#32
  | 15 => 0xBF1BD7CA#32
  | 16 => 0xBF000000#32
  | 17 => 0xBEC3EF15#32
  | 18 => 0xBE8483EE#32
  | 19 => 0xBE05A8A8#32
  | 20 => 0xA553C9CA#32
  | 21 => 0x3E05A8A8#32
  | 22 => 0x3E8483EE#32
  | 23 => 0x3EC3EF15#32
  | 24 => 0x3F000000#32
  | 25 => 0x3F1BD7CA#32
  | 26 => 0x3F3504F3#32
  | 27 => 0x3F4B1934#32
  | 28 => 0x3F5DB3D7#32
  | 29 => 0x3F6C835E#32
  | 30 => 0x3F7746EA#32
  | 31 => 0x3F7DCF55#32
  | 32 => 0x3F800000#32
  | 33 => 0x3F7DCF55#32
  | 34 => 0x3F7746EA#32
  | 35 => 0x3F6C835E#32
  | 36 => 0x3F5DB3D7#32
  | 37 => 0x3F4B1934#32
  | 38 => 0x3F3504F3#32
  | 39 => 0x3F1BD7CA#32
  | 40 => 0x3F000000#32
  | 41 => 0x3EC3EF15#32
  | 42 => 0x3E8483EE#32
  | 43 => 0x3E05A8A8#32
  | 44 => 0x248D3132#32
  | 45 => 0xBE05A8A8#32
  | 46 => 0xBE8483EE#32
  | 47 => 0xBEC3EF15#32
  | 48 => 0xBF000000#32
  | 49 => 0xBF1BD7CA#32
  | 50 => 0xBF3504F3#32
  | 51 => 0xBF4B1934#32
  | 52 => 0xBF5DB3D7#32
  | 53 => 0xBF6C835E#32
  | 54 => 0xBF7746EA#32
  | 55 => 0xBF7DCF55#32
  | 56 => 0xBF800000#32
  | 57 => 0xBF7DCF55#32
  | 58 => 0xBF7746EA#32
  | 59 => 0xBF6C835E#32
  | 60 => 0xBF5DB3D7#32
  | 61 => 0xBF4B1934#32
  | 62 => 0xBF3504F3#32
  | 63 => 0xBF1BD7CA#32
  | 64 => 0xBF000000#32
  | 65 => 0xBEC3EF15#32
  | 66 => 0xBE8483EE#32
  | 67 => 0xBE05A8A8#32
  | 68 => 0xA553C9CA#32
  | 69 => 0x3E05A8A8#32
  | 70 => 0x3E8483EE#32
  | 71 => 0x3EC3EF15#32
  | 72 => 0x3F000000#32
  | 73 => 0x3F1BD7CA#32
  | 74 => 0x3F3504F3#32
  | 75 => 0x3F4B1934#32
  | 76 => 0x3F5DB3D7#32
  | 77 => 0x3F6C835E#32
  | 78 => 0x3F7746EA#32
  | 79 => 0x3F7DCF55#32
  | 80 => 0x3F800000#32
  | 81 => 0x3F7DCF55#32
  | 82 => 0x3F7746EA#32
  | 83 => 0x3F6C835E#32
  | 84 => 0x3F5DB3D7#32
  | 85 => 0x3F4B1934#32
  | 86 => 0x3F3504F3#32
  | 87 => 0x3F1BD7CA#32
  | 88 => 0x3F000000#32
  | 89 => 0x3EC3EF15#32
  | 90 => 0x3E8483EE#32
  | 91 => 0x3E05A8A8#32
  | 92 => 0x248D3132#32
  | 93 => 0xBE05A8A8#32
  | 94 => 0xBE8483EE#32
  | 95 => 0xBEC3EF15#32
  | 96 => 0xBF000000#32
  | 97 => 0xBF1BD7CA#32
  | 98 => 0xBF3504F3#32
  | 99 => 0xBF4B1934#32
  | 100 => 0xBF5DB3D7#32
  | 101 => 0xBF6C835E#32
  | 102 => 0xBF7746EA#32
  | 103 => 0xBF7DCF55#32
  | 104 => 0xBF800000#32
  | 105 => 0xBF7DCF55#32
  | 106 => 0xBF7746EA#32
  | 107 => 0xBF6C835E#32
  | 108 => 0xBF5DB3D7#32
  | 109 => 0xBF4B1934#32
  | 110 => 0xBF3504F3#32
  | 111 => 0xBF1BD7CA#32
  | 112 => 0xBF000000#32
  | 113 => 0xBEC3EF15#32
  | 114 => 0xBE8483EE#32
  | 115 => 0xBE05A8A8#32
  | 116 => 0xA553C9CA#32
  | 117 => 0x3E05A8A8#32
  | 118 => 0x3E8483EE#32
  | 119 => 0x3EC3EF15#32
  | 120 => 0x3F000000#32
  | 121 => 0x3F1BD7CA#32
  | 122 => 0x3F3504F3#32
  | 123 => 0x3F4B1934#32
  | 124 => 0x3F5DB3D7#32
  | 125 => 0x3F6C835E#32
  | 126 => 0x3F7746EA#32
  | 127 => 0x3F7DCF55#32
  | _ => 0#32

noncomputable abbrev lit0t0_15 (i : Nat) : BitVec 32 := match i % 128 with
  | 0 => 0x3F800000#32
  | 1 => 0x3F7DCF55#32
  | 2 => 0x3F7746EA#32
  | 3 => 0x3F6C835E#32
  | 4 => 0x3F5DB3D7#32
  | 5 => 0x3F4B1934#32
  | 6 => 0x3F3504F3#32
  | 7 => 0x3F1BD7CA#32
  | 8 => 0x3F000000#32
  | 9 => 0x3EC3EF15#32
  | 10 => 0x3E8483EE#32
  | 11 => 0x3E05A8A8#32
  | 12 => 0x248D3132#32
  | 13 => 0xBE05A8A8#32
  | 14 => 0xBE8483EE#32
  | 15 => 0xBEC3EF15#32
  | 16 => 0xBF000000#32
  | 17 => 0xBF1BD7CA#32
  | 18 => 0xBF3504F3#32
  | 19 => 0xBF4B1934#32
  | 20 => 0xBF5DB3D7#32
  | 21 => 0xBF6C835E#32
  | 22 => 0xBF7746EA#32
  | 23 => 0xBF7DCF55#32
  | 24 => 0xBF800000#32
  | 25 => 0xBF7DCF55#32
  | 26 => 0xBF7746EA#32
  | 27 => 0xBF6C835E#32
  | 28 => 0xBF5DB3D7#32
  | 29 => 0xBF4B1934#32
  | 30 => 0xBF3504F3#32
  | 31 => 0xBF1BD7CA#32
  | 32 => 0xBF000000#32
  | 33 => 0xBEC3EF15#32
  | 34 => 0xBE8483EE#32
  | 35 => 0xBE05A8A8#32
  | 36 => 0xA553C9CA#32
  | 37 => 0x3E05A8A8#32
  | 38 => 0x3E8483EE#32
  | 39 => 0x3EC3EF15#32
  | 40 => 0x3F000000#32
  | 41 => 0x3F1BD7CA#32
  | 42 => 0x3F3504F3#32
  | 43 => 0x3F4B1934#32
  | 44 => 0x3F5DB3D7#32
  | 45 => 0x3F6C835E#32
  | 46 => 0x3F7746EA#32
  | 47 => 0x3F7DCF55#32
  | 48 => 0x3F800000#32
  | 49 => 0x3F7DCF55#32
  | 50 => 0x3F7746EA#32
  | 51 => 0x3F6C835E#32
  | 52 => 0x3F5DB3D7#32
  | 53 => 0x3F4B1934#32
  | 54 => 0x3F3504F3#32
  | 55 => 0x3F1BD7CA#32
  | 56 => 0x3F000000#32
  | 57 => 0x3EC3EF15#32
  | 58 => 0x3E8483EE#32
  | 59 => 0x3E05A8A8#32
  | 60 => 0x248D3132#32
  | 61 => 0xBE05A8A8#32
  | 62 => 0xBE8483EE#32
  | 63 => 0xBEC3EF15#32
  | 64 => 0xBF000000#32
  | 65 => 0xBF1BD7CA#32
  | 66 => 0xBF3504F3#32
  | 67 => 0xBF4B1934#32
  | 68 => 0xBF5DB3D7#32
  | 69 => 0xBF6C835E#32
  | 70 => 0xBF7746EA#32
  | 71 => 0xBF7DCF55#32
  | 72 => 0xBF800000#32
  | 73 => 0xBF7DCF55#32
  | 74 => 0xBF7746EA#32
  | 75 => 0xBF6C835E#32
  | 76 => 0xBF5DB3D7#32
  | 77 => 0xBF4B1934#32
  | 78 => 0xBF3504F3#32
  | 79 => 0xBF1BD7CA#32
  | 80 => 0xBF000000#32
  | 81 => 0xBEC3EF15#32
  | 82 => 0xBE8483EE#32
  | 83 => 0xBE05A8A8#32
  | 84 => 0xA553C9CA#32
  | 85 => 0x3E05A8A8#32
  | 86 => 0x3E8483EE#32
  | 87 => 0x3EC3EF15#32
  | 88 => 0x3F000000#32
  | 89 => 0x3F1BD7CA#32
  | 90 => 0x3F3504F3#32
  | 91 => 0x3F4B1934#32
  | 92 => 0x3F5DB3D7#32
  | 93 => 0x3F6C835E#32
  | 94 => 0x3F7746EA#32
  | 95 => 0x3F7DCF55#32
  | 96 => 0x3F800000#32
  | 97 => 0x3F7D0543#32
  | 98 => 0x3F7426CB#32
  | 99 => 0x3F659974#32
  | 100 => 0x3F51B3F3#32
  | 101 => 0x3F38ECD8#32
  | 102 => 0x3F1BD7CA#32
  | 103 => 0x3EF64429#32
  | 104 => 0x3EAF1D44#32
  | 105 => 0x3E47C5C2#32
  | 106 => 0x3D32AA3E#32
  | 107 => 0xBDDEF599#32
  | 108 => 0xBE8483EE#32
  | 109 => 0xBECE34D0#32
  | 110 => 0xBF098C78#32
  | 111 => 0xBF28CAE3#32
  | 112 => 0xBF441B7D#32
  | 113 => 0xBF5ADB81#32
  | 114 => 0xBF6C835E#32
  | 115 => 0xBF78A9E0#32
  | 116 => 0xBF7F069E#32
  | 117 => 0xBF7F73AF#32
  | 118 => 0xBF79EE89#32
  | 119 => 0xBF6E9811#32
  | 120 => 0xBF5DB3D7#32
  | 121 => 0xBF47A682#32
  | 122 => 0xBF2CF37B#32
  | 123 => 0xBF0E39DA#32
  | 124 => 0xBED8616C#32
  | 125 => 0xBE8F45C0#32
  | 126 => 0xBE05A8A8#32
  | 127 => 0x3CB2B521#32
  | _ => 0#32

noncomputable abbrev lit0t0_16 (i : Nat) : BitVec 32 := match i % 128 with
  | 0 => 0x3E31D0D4#32
  | 1 => 0x3EA493B7#32
  | 2 => 0x3EEC6A50#32
  | 3 => 0x3F176012#32
  | 4 => 0x3F3504F3#32
  | 5 => 0x3F4E7327#32
  | 6 => 0x3F631324#32
  | 7 => 0x3F726A03#32
  | 8 => 0x3F7C1C5C#32
  | 9 => 0x3F7FF067#32
  | 10 => 0x3F7DCF55#32
  | 11 => 0x3F75C5D4#32
  | 12 => 0x3F6803CA#32
  | 13 => 0x3F54DB31#32
  | 14 => 0x3F3CBE35#32
  | 15 => 0x3F203C85#32
  | 16 => 0x3F000000#32
  | 17 => 0x3EB9917B#32
  | 18 => 0x3E5DA259#32
  | 19 => 0x3D85F213#32
  | 20 => 0xBDB27EB6#32
  | 21 => 0xBE7363EE#32
  | 22 => 0xBEC3EF15#32
  | 23 => 0xBF04CE53#32
  | 24 => 0xBF248DBB#32
  | 25 => 0xBF407893#32
  | 26 => 0xBF57E880#32
  | 27 => 0xBF6A51DA#32
  | 28 => 0xBF7746EA#32
  | 29 => 0xBF7E7A7A#32
  | 30 => 0xBF7FC1A0#32
  | 31 => 0xBF7B14BE#32
  | 32 => 0xBF708FB2#32
  | 33 => 0xBF60712A#32
  | 34 => 0xBF4B1934#32
  | 35 => 0xBF310700#32
  | 36 => 0xBF12D5E8#32
  | 37 => 0xBEE273AA#32
  | 38 => 0xBE99F61C#32
  | 39 => 0xBE1BC63C#32
  | 40 => 0xA553C9CA#32
  | 41 => 0x3E1BC63C#32
  | 42 => 0x3E99F61C#32
  | 43 => 0x3EE273AA#32
  | 44 => 0x3F12D5E8#32
  | 45 => 0x3F310700#32
  | 46 => 0x3F4B1934#32
  | 47 => 0x3F60712A#32
  | 48 => 0x3F708FB2#32
  | 49 => 0x3F7B14BE#32
  | 50 => 0x3F7FC1A0#32
  | 51 => 0x3F7E7A7A#32
  | 52 => 0x3F7746EA#32
  | 53 => 0x3F6A51DA#32
  | 54 => 0x3F57E880#32
  | 55 => 0x3F407893#32
  | 56 => 0x3F248DBB#32
  | 57 => 0x3F04CE53#32
  | 58 => 0x3EC3EF15#32
  | 59 => 0x3E7363EE#32
  | 60 => 0x3DB27EB6#32
  | 61 => 0xBD85F213#32
  | 62 => 0xBE5DA259#32
  | 63 => 0xBEB9917B#32
  | 64 => 0xBF000000#32
  | 65 => 0xBF203C85#32
  | 66 => 0xBF3CBE35#32
  | 67 => 0xBF54DB31#32
  | 68 => 0xBF6803CA#32
  | 69 => 0xBF75C5D4#32
  | 70 => 0xBF7DCF55#32
  | 71 => 0xBF7FF067#32
  | 72 => 0xBF7C1C5C#32
  | 73 => 0xBF726A03#32
  | 74 => 0xBF631324#32
  | 75 => 0xBF4E7327#32
  | 76 => 0xBF3504F3#32
  | 77 => 0xBF176012#32
  | 78 => 0xBEEC6A50#32
  | 79 => 0xBEA493B7#32
  | 80 => 0xBE31D0D4#32
  | 81 => 0xBCB2B521#32
  | 82 => 0x3E05A8A8#32
  | 83 => 0x3E8F45C0#32
  | 84 => 0x3ED8616C#32
  | 85 => 0x3F0E39DA#32
  | 86 => 0x3F2CF37B#32
  | 87 => 0x3F47A682#32
  | 88 => 0x3F5DB3D7#32
  | 89 => 0x3F6E9811#32
  | 90 => 0x3F79EE89#32
  | 91 => 0x3F7F73AF#32
  | 92 => 0x3F7F069E#32
  | 93 => 0x3F78A9E0#32
  | 94 => 0x3F6C835E#32
  | 95 => 0x3F5ADB81#32
  | 96 => 0x3F441B7D#32
  | 97 => 0x3F28CAE3#32
  | 98 => 0x3F098C78#32
  | 99 => 0x3ECE34D0#32
  | 100 => 0x3E8483EE#32
  | 101 => 0x3DDEF599#32
  | 102 => 0xBD32AA3E#32
  | 103 => 0xBE47C5C2#32
  | 104 => 0xBEAF1D44#32
  | 105 => 0xBEF64429#32
  | 106 => 0xBF1BD7CA#32
  | 107 => 0xBF38ECD8#32
  | 108 => 0xBF51B3F3#32
  | 109 => 0xBF659974#32
  | 110 => 0xBF7426CB#32
  | 111 => 0xBF7D0543#32
  | 112 => 0xBF800000#32
  | 113 => 0xBF7D0543#32
  | 114 => 0xBF7426CB#32
  | 115 => 0xBF659974#32
  | 116 => 0xBF51B3F3#32
  | 117 => 0xBF38ECD8#32
  | 118 => 0xBF1BD7CA#32
  | 119 => 0xBEF64429#32
  | 120 => 0xBEAF1D44#32
  | 121 => 0xBE47C5C2#32
  | 122 => 0xBD32AA3E#32
  | 123 => 0x3DDEF599#32
  | 124 => 0x3E8483EE#32
  | 125 => 0x3ECE34D0#32
  | 126 => 0x3F098C78#32
  | 127 => 0x3F28CAE3#32
  | _ => 0#32

noncomputable abbrev lit0t0_17 (i : Nat) : BitVec 32 := match i % 128 with
  | 0 => 0x3F441B7D#32
  | 1 => 0x3F5ADB81#32
  | 2 => 0x3F6C835E#32
  | 3 => 0x3F78A9E0#32
  | 4 => 0x3F7F069E#32
  | 5 => 0x3F7F73AF#32
  | 6 => 0x3F79EE89#32
  | 7 => 0x3F6E9811#32
  | 8 => 0x3F5DB3D7#32
  | 9 => 0x3F47A682#32
  | 10 => 0x3F2CF37B#32
  | 11 => 0x3F0E39DA#32
  | 12 => 0x3ED8616C#32
  | 13 => 0x3E8F45C0#32
  | 14 => 0x3E05A8A8#32
  | 15 => 0xBCB2B521#32
  | 16 => 0xBE31D0D4#32
  | 17 => 0xBEA493B7#32
  | 18 => 0xBEEC6A50#32
  | 19 => 0xBF176012#32
  | 20 => 0xBF3504F3#32
  | 21 => 0xBF4E7327#32
  | 22 => 0xBF631324#32
  | 23 => 0xBF726A03#32
  | 24 => 0xBF7C1C5C#32
  | 25 => 0xBF7FF067#32
  | 26 => 0xBF7DCF55#32
  | 27 => 0xBF75C5D4#32
  | 28 => 0xBF6803CA#32
  | 29 => 0xBF54DB31#32
  | 30 => 0xBF3CBE35#32
  | 31 => 0xBF203C85#32
  | 32 => 0xBF000000#32
  | 33 => 0xBEB9917B#32
  | 34 => 0xBE5DA259#32
  | 35 => 0xBD85F213#32
  | 36 => 0x3DB27EB6#32
  | 37 => 0x3E7363EE#32
  | 38 => 0x3EC3EF15#32
  | 39 => 0x3F04CE53#32
  | 40 => 0x3F248DBB#32
  | 41 => 0x3F407893#32
  | 42 => 0x3F57E880#32
  | 43 => 0x3F6A51DA#32
  | 44 => 0x3F7746EA#32
  | 45 => 0x3F7E7A7A#32
  | 46 => 0x3F7FC1A0#32
  | 47 => 0x3F7B14BE#32
  | 48 => 0x3F708FB2#32
  | 49 => 0x3F60712A#32
  | 50 => 0x3F4B1934#32
  | 51 => 0x3F310700#32
  | 52 => 0x3F12D5E8#32
  | 53 => 0x3EE273AA#32
  | 54 => 0x3E99F61C#32
  | 55 => 0x3E1BC63C#32
  | 56 => 0x248D3132#32
  | 57 => 0xBE1BC63C#32
  | 58 => 0xBE99F61C#32
  | 59 => 0xBEE273AA#32
  | 60 => 0xBF12D5E8#32
  | 61 => 0xBF310700#32
  | 62 => 0xBF4B1934#32
  | 63 => 0xBF60712A#32
  | 64 => 0xBF708FB2#32
  | 65 => 0xBF7B14BE#32
  | 66 => 0xBF7FC1A0#32
  | 67 => 0xBF7E7A7A#32
  | 68 => 0xBF7746EA#32
  | 69 => 0xBF6A51DA#32
  | 70 => 0xBF57E880#32
  | 71 => 0xBF407893#32
  | 72 => 0xBF248DBB#32
  | 73 => 0xBF04CE53#32
  | 74 => 0xBEC3EF15#32
  | 75 => 0xBE7363EE#32
  | 76 => 0xBDB27EB6#32
  | 77 => 0x3D85F213#32
  | 78 => 0x3E5DA259#32
  | 79 => 0x3EB9917B#32
  | 80 => 0x3F000000#32
  | 81 => 0x3F203C85#32
  | 82 => 0x3F3CBE35#32
  | 83 => 0x3F54DB31#32
  | 84 => 0x3F6803CA#32
  | 85 => 0x3F75C5D4#32
  | 86 => 0x3F7DCF55#32
  | 87 => 0x3F7FF067#32
  | 88 => 0x3F7C1C5C#32
  | 89 => 0x3F726A03#32
  | 90 => 0x3F631324#32
  | 91 => 0x3F4E7327#32
  | 92 => 0x3F3504F3#32
  | 93 => 0x3F176012#32
  | 94 => 0x3EEC6A50#32
  | 95 => 0x3EA493B7#32
  | 96 => 0x3E31D0D4#32
  | 97 => 0x3CB2B521#32
  | 98 => 0xBE05A8A8#32
  | 99 => 0xBE8F45C0#32
  | 100 => 0xBED8616C#32
  | 101 => 0xBF0E39DA#32
  | 102 => 0xBF2CF37B#32
  | 103 => 0xBF47A682#32
  | 104 => 0xBF5DB3D7#32
  | 105 => 0xBF6E9811#32
  | 106 => 0xBF79EE89#32
  | 107 => 0xBF7F73AF#32
  | 108 => 0xBF7F069E#32
  | 109 => 0xBF78A9E0#32
  | 110 => 0xBF6C835E#32
  | 111 => 0xBF5ADB81#32
  | 112 => 0xBF441B7D#32
  | 113 => 0xBF28CAE3#32
  | 114 => 0xBF098C78#32
  | 115 => 0xBECE34D0#32
  | 116 => 0xBE8483EE#32
  | 117 => 0xBDDEF599#32
  | 118 => 0x3D32AA3E#32
  | 119 => 0x3E47C5C2#32
  | 120 => 0x3EAF1D44#32
  | 121 => 0x3EF64429#32
  | 122 => 0x3F1BD7CA#32
  | 123 => 0x3F38ECD8#32
  | 124 => 0x3F51B3F3#32
  | 125 => 0x3F659974#32
  | 126 => 0x3F7426CB#32
  | 127 => 0x3F7D0543#32
  | _ => 0#32

noncomputable abbrev lit0t0_18 (i : Nat) : BitVec 32 := match i % 128 with
  | 0 => 0x3F800000#32
  | 1 => 0x3F7C1C5C#32
  | 2 => 0x3F708FB2#32
  | 3 => 0x3F5DB3D7#32
  | 4 => 0x3F441B7D#32
  | 5 => 0x3F248DBB#32
  | 6 => 0x3F000000#32
  | 7 => 0x3EAF1D44#32
  | 8 => 0x3E31D0D4#32
  | 9 => 0x248D3132#32
  | 10 => 0xBE31D0D4#32
  | 11 => 0xBEAF1D44#32
  | 12 => 0xBF000000#32
  | 13 => 0xBF248DBB#32
  | 14 => 0xBF441B7D#32
  | 15 => 0xBF5DB3D7#32
  | 16 => 0xBF708FB2#32
  | 17 => 0xBF7C1C5C#32
  | 18 => 0xBF800000#32
  | 19 => 0xBF7C1C5C#32
  | 20 => 0xBF708FB2#32
  | 21 => 0xBF5DB3D7#32
  | 22 => 0xBF441B7D#32
  | 23 => 0xBF248DBB#32
  | 24 => 0xBF000000#32
  | 25 => 0xBEAF1D44#32
  | 26 => 0xBE31D0D4#32
  | 27 => 0xA553C9CA#32
  | 28 => 0x3E31D0D4#32
  | 29 => 0x3EAF1D44#32
  | 30 => 0x3F000000#32
  | 31 => 0x3F248DBB#32
  | 32 => 0x3F441B7D#32
  | 33 => 0x3F5DB3D7#32
  | 34 => 0x3F708FB2#32
  | 35 => 0x3F7C1C5C#32
  | 36 => 0x3F800000#32
  | 37 => 0x3F7C1C5C#32
  | 38 => 0x3F708FB2#32
  | 39 => 0x3F5DB3D7#32
  | 40 => 0x3F441B7D#32
  | 41 => 0x3F248DBB#32
  | 42 => 0x3F000000#32
  | 43 => 0x3EAF1D44#32
  | 44 => 0x3E31D0D4#32
  | 45 => 0x248D3132#32
  | 46 => 0xBE31D0D4#32
  | 47 => 0xBEAF1D44#32
  | 48 => 0xBF000000#32
  | 49 => 0xBF248DBB#32
  | 50 => 0xBF441B7D#32
  | 51 => 0xBF5DB3D7#32
  | 52 => 0xBF708FB2#32
  | 53 => 0xBF7C1C5C#32
  | 54 => 0xBF800000#32
  | 55 => 0xBF7C1C5C#32
  | 56 => 0xBF708FB2#32
  | 57 => 0xBF5DB3D7#32
  | 58 => 0xBF441B7D#32
  | 59 => 0xBF248DBB#32
  | 60 => 0xBF000000#32
  | 61 => 0xBEAF1D44#32
  | 62 => 0xBE31D0D4#32
  | 63 => 0xA553C9CA#32
  | 64 => 0x3E31D0D4#32
  | 65 => 0x3EAF1D44#32
  | 66 => 0x3F000000#32
  | 67 => 0x3F248DBB#32
  | 68 => 0x3F441B7D#32
  | 69 => 0x3F5DB3D7#32
  | 70 => 0x3F708FB2#32
  | 71 => 0x3F7C1C5C#32
  | 72 => 0x3F800000#32
  | 73 => 0x3F7C1C5C#32
  | 74 => 0x3F708FB2#32
  | 75 => 0x3F5DB3D7#32
  | 76 => 0x3F441B7D#32
  | 77 => 0x3F248DBB#32
  | 78 => 0x3F000000#32
  | 79 => 0x3EAF1D44#32
  | 80 => 0x3E31D0D4#32
  | 81 => 0x248D3132#32
  | 82 => 0xBE31D0D4#32
  | 83 => 0xBEAF1D44#32
  | 84 => 0xBF000000#32
  | 85 => 0xBF248DBB#32
  | 86 => 0xBF441B7D#32
  | 87 => 0xBF5DB3D7#32
  | 88 => 0xBF708FB2#32
  | 89 => 0xBF7C1C5C#32
  | 90 => 0xBF800000#32
  | 91 => 0xBF7C1C5C#32
  | 92 => 0xBF708FB2#32
  | 93 => 0xBF5DB3D7#32
  | 94 => 0xBF441B7D#32
  | 95 => 0xBF248DBB#32
  | 96 => 0xBF000000#32
  | 97 => 0xBEAF1D44#32
  | 98 => 0xBE31D0D4#32
  | 99 => 0xA553C9CA#32
  | 100 => 0x3E31D0D4#32
  | 101 => 0x3EAF1D44#32
  | 102 => 0x3F000000#32
  | 103 => 0x3F248DBB#32
  | 104 => 0x3F441B7D#32
  | 105 => 0x3F5DB3D7#32
  | 106 => 0x3F708FB2#32
  | 107 => 0x3F7C1C5C#32
  | 108 => 0x3F800000#32
  | 109 => 0x3F7C1C5C#32
  | 110 => 0x3F708FB2#32
  | 111 => 0x3F5DB3D7#32
  | 112 => 0x3F441B7D#32
  | 113 => 0x3F248DBB#32
  | 114 => 0x3F000000#32
  | 115 => 0x3EAF1D44#32
  | 116 => 0x3E31D0D4#32
  | 117 => 0x248D3132#32
  | 118 => 0xBE31D0D4#32
  | 119 => 0xBEAF1D44#32
  | 120 => 0xBF000000#32
  | 121 => 0xBF248DBB#32
  | 122 => 0xBF441B7D#32
  | 123 => 0xBF5DB3D7#32
  | 124 => 0xBF708FB2#32
  | 125 => 0xBF7C1C5C#32
  | 126 => 0xBF800000#32
  | 127 => 0xBF7C1C5C#32
  | _ => 0#32

noncomputable abbrev lit0t0_19 (i : Nat) : BitVec 32 := match i % 128 with
  | 0 => 0xBF708FB2#32
  | 1 => 0xBF5DB3D7#32
  | 2 => 0xBF441B7D#32
  | 3 => 0xBF248DBB#32
  | 4 => 0xBF000000#32
  | 5 => 0xBEAF1D44#32
  | 6 => 0xBE31D0D4#32
  | 7 => 0xA553C9CA#32
  | 8 => 0x3E31D0D4#32
  | 9 => 0x3EAF1D44#32
  | 10 => 0x3F000000#32
  | 11 => 0x3F248DBB#32
  | 12 => 0x3F441B7D#32
  | 13 => 0x3F5DB3D7#32
  | 14 => 0x3F708FB2#32
  | 15 => 0x3F7C1C5C#32
  | 16 => 0x3F800000#32
  | 17 => 0x3F7C1C5C#32
  | 18 => 0x3F708FB2#32
  | 19 => 0x3F5DB3D7#32
  | 20 => 0x3F441B7D#32
  | 21 => 0x3F248DBB#32
  | 22 => 0x3F000000#32
  | 23 => 0x3EAF1D44#32
  | 24 => 0x3E31D0D4#32
  | 25 => 0x248D3132#32
  | 26 => 0xBE31D0D4#32
  | 27 => 0xBEAF1D44#32
  | 28 => 0xBF000000#32
  | 29 => 0xBF248DBB#32
  | 30 => 0xBF441B7D#32
  | 31 => 0xBF5DB3D7#32
  | 32 => 0xBF708FB2#32
  | 33 => 0xBF7C1C5C#32
  | 34 => 0xBF800000#32
  | 35 => 0xBF7C1C5C#32
  | 36 => 0xBF708FB2#32
  | 37 => 0xBF5DB3D7#32
  | 38 => 0xBF441B7D#32
  | 39 => 0xBF248DBB#32
  | 40 => 0xBF000000#32
  | 41 => 0xBEAF1D44#32
  | 42 => 0xBE31D0D4#32
  | 43 => 0xA553C9CA#32
  | 44 => 0x3E31D0D4#32
  | 45 => 0x3EAF1D44#32
  | 46 => 0x3F000000#32
  | 47 => 0x3F248DBB#32
  | 48 => 0x3F441B7D#32
  | 49 => 0x3F5DB3D7#32
  | 50 => 0x3F708FB2#32
  | 51 => 0x3F7C1C5C#32
  | 52 => 0x3F800000#32
  | 53 => 0x3F7C1C5C#32
  | 54 => 0x3F708FB2#32
  | 55 => 0x3F5DB3D7#32
  | 56 => 0x3F441B7D#32
  | 57 => 0x3F248DBB#32
  | 58 => 0x3F000000#32
  | 59 => 0x3EAF1D44#32
  | 60 => 0x3E31D0D4#32
  | 61 => 0x248D3132#32
  | 62 => 0xBE31D0D4#32
  | 63 => 0xBEAF1D44#32
  | 64 => 0xBF000000#32
  | 65 => 0xBF248DBB#32
  | 66 => 0xBF441B7D#32
  | 67 => 0xBF5DB3D7#32
  | 68 => 0xBF708FB2#32
  | 69 => 0xBF7C1C5C#32
  | 70 => 0xBF800000#32
  | 71 => 0xBF7C1C5C#32
  | 72 => 0xBF708FB2#32
  | 73 => 0xBF5DB3D7#32
  | 74 => 0xBF441B7D#32
  | 75 => 0xBF248DBB#32
  | 76 => 0xBF000000#32
  | 77 => 0xBEAF1D44#32
  | 78 => 0xBE31D0D4#32
  | 79 => 0xA553C9CA#32
  | 80 => 0x3E31D0D4#32
  | 81 => 0x3EAF1D44#32
  | 82 => 0x3F000000#32
  | 83 => 0x3F248DBB#32
  | 84 => 0x3F441B7D#32
  | 85 => 0x3F5DB3D7#32
  | 86 => 0x3F708FB2#32
  | 87 => 0x3F7C1C5C#32
  | 88 => 0x3F800000#32
  | 89 => 0x3F7C1C5C#32
  | 90 => 0x3F708FB2#32
  | 91 => 0x3F5DB3D7#32
  | 92 => 0x3F441B7D#32
  | 93 => 0x3F248DBB#32
  | 94 => 0x3F000000#32
  | 95 => 0x3EAF1D44#32
  | 96 => 0x3E31D0D4#32
  | 97 => 0x248D3132#32
  | 98 => 0xBE31D0D4#32
  | 99 => 0xBEAF1D44#32
  | 100 => 0xBF000000#32
  | 101 => 0xBF248DBB#32
  | 102 => 0xBF441B7D#32
  | 103 => 0xBF5DB3D7#32
  | 104 => 0xBF708FB2#32
  | 105 => 0xBF7C1C5C#32
  | 106 => 0xBF800000#32
  | 107 => 0xBF7C1C5C#32
  | 108 => 0xBF708FB2#32
  | 109 => 0xBF5DB3D7#32
  | 110 => 0xBF441B7D#32
  | 111 => 0xBF248DBB#32
  | 112 => 0xBF000000#32
  | 113 => 0xBEAF1D44#32
  | 114 => 0xBE31D0D4#32
  | 115 => 0xA553C9CA#32
  | 116 => 0x3E31D0D4#32
  | 117 => 0x3EAF1D44#32
  | 118 => 0x3F000000#32
  | 119 => 0x3F248DBB#32
  | 120 => 0x3F441B7D#32
  | 121 => 0x3F5DB3D7#32
  | 122 => 0x3F708FB2#32
  | 123 => 0x3F7C1C5C#32
  | 124 => 0x3F800000#32
  | 125 => 0x3F7C1C5C#32
  | 126 => 0x3F708FB2#32
  | 127 => 0x3F5DB3D7#32
  | _ => 0#32

noncomputable abbrev lit0t0_20 (i : Nat) : BitVec 32 := match i % 128 with
  | 0 => 0x3F441B7D#32
  | 1 => 0x3F248DBB#32
  | 2 => 0x3F000000#32
  | 3 => 0x3EAF1D44#32
  | 4 => 0x3E31D0D4#32
  | 5 => 0x248D3132#32
  | 6 => 0xBE31D0D4#32
  | 7 => 0xBEAF1D44#32
  | 8 => 0xBF000000#32
  | 9 => 0xBF248DBB#32
  | 10 => 0xBF441B7D#32
  | 11 => 0xBF5DB3D7#32
  | 12 => 0xBF708FB2#32
  | 13 => 0xBF7C1C5C#32
  | 14 => 0xBF800000#32
  | 15 => 0xBF7C1C5C#32
  | 16 => 0xBF708FB2#32
  | 17 => 0xBF5DB3D7#32
  | 18 => 0xBF441B7D#32
  | 19 => 0xBF248DBB#32
  | 20 => 0xBF000000#32
  | 21 => 0xBEAF1D44#32
  | 22 => 0xBE31D0D4#32
  | 23 => 0xA553C9CA#32
  | 24 => 0x3E31D0D4#32
  | 25 => 0x3EAF1D44#32
  | 26 => 0x3F000000#32
  | 27 => 0x3F248DBB#32
  | 28 => 0x3F441B7D#32
  | 29 => 0x3F5DB3D7#32
  | 30 => 0x3F708FB2#32
  | 31 => 0x3F7C1C5C#32
  | 32 => 0x3F800000#32
  | 33 => 0x3F7B14BE#32
  | 34 => 0x3F6C835E#32
  | 35 => 0x3F54DB31#32
  | 36 => 0x3F3504F3#32
  | 37 => 0x3F0E39DA#32
  | 38 => 0x3EC3EF15#32
  | 39 => 0x3E47C5C2#32
  | 40 => 0x248D3132#32
  | 41 => 0xBE47C5C2#32
  | 42 => 0xBEC3EF15#32
  | 43 => 0xBF0E39DA#32
  | 44 => 0xBF3504F3#32
  | 45 => 0xBF54DB31#32
  | 46 => 0xBF6C835E#32
  | 47 => 0xBF7B14BE#32
  | 48 => 0xBF800000#32
  | 49 => 0xBF7B14BE#32
  | 50 => 0xBF6C835E#32
  | 51 => 0xBF54DB31#32
  | 52 => 0xBF3504F3#32
  | 53 => 0xBF0E39DA#32
  | 54 => 0xBEC3EF15#32
  | 55 => 0xBE47C5C2#32
  | 56 => 0xA553C9CA#32
  | 57 => 0x3E47C5C2#32
  | 58 => 0x3EC3EF15#32
  | 59 => 0x3F0E39DA#32
  | 60 => 0x3F3504F3#32
  | 61 => 0x3F54DB31#32
  | 62 => 0x3F6C835E#32
  | 63 => 0x3F7B14BE#32
  | 64 => 0x3F800000#32
  | 65 => 0x3F7B14BE#32
  | 66 => 0x3F6C835E#32
  | 67 => 0x3F54DB31#32
  | 68 => 0x3F3504F3#32
  | 69 => 0x3F0E39DA#32
  | 70 => 0x3EC3EF15#32
  | 71 => 0x3E47C5C2#32
  | 72 => 0x248D3132#32
  | 73 => 0xBE47C5C2#32
  | 74 => 0xBEC3EF15#32
  | 75 => 0xBF0E39DA#32
  | 76 => 0xBF3504F3#32
  | 77 => 0xBF54DB31#32
  | 78 => 0xBF6C835E#32
  | 79 => 0xBF7B14BE#32
  | 80 => 0xBF800000#32
  | 81 => 0xBF7B14BE#32
  | 82 => 0xBF6C835E#32
  | 83 => 0xBF54DB31#32
  | 84 => 0xBF3504F3#32
  | 85 => 0xBF0E39DA#32
  | 86 => 0xBEC3EF15#32
  | 87 => 0xBE47C5C2#32
  | 88 => 0xA553C9CA#32
  | 89 => 0x3E47C5C2#32
  | 90 => 0x3EC3EF15#32
  | 91 => 0x3F0E39DA#32
  | 92 => 0x3F3504F3#32
  | 93 => 0x3F54DB31#32
  | 94 => 0x3F6C835E#32
  | 95 => 0x3F7B14BE#32
  | 96 => 0x3F800000#32
  | 97 => 0x3F7B14BE#32
  | 98 => 0x3F6C835E#32
  | 99 => 0x3F54DB31#32
  | 100 => 0x3F3504F3#32
  | 101 => 0x3F0E39DA#32
  | 102 => 0x3EC3EF15#32
  | 103 => 0x3E47C5C2#32
  | 104 => 0x248D3132#32
  | 105 => 0xBE47C5C2#32
  | 106 => 0xBEC3EF15#32
  | 107 => 0xBF0E39DA#32
  | 108 => 0xBF3504F3#32
  | 109 => 0xBF54DB31#32
  | 110 => 0xBF6C835E#32
  | 111 => 0xBF7B14BE#32
  | 112 => 0xBF800000#32
  | 113 => 0xBF7B14BE#32
  | 114 => 0xBF6C835E#32
  | 115 => 0xBF54DB31#32
  | 116 => 0xBF3504F3#32
  | 117 => 0xBF0E39DA#32
  | 118 => 0xBEC3EF15#32
  | 119 => 0xBE47C5C2#32
  | 120 => 0xA553C9CA#32
  | 121 => 0x3E47C5C2#32
  | 122 => 0x3EC3EF15#32
  | 123 => 0x3F0E39DA#32
  | 124 => 0x3F3504F3#32
  | 125 => 0x3F54DB31#32
  | 126 => 0x3F6C835E#32
  | 127 => 0x3F7B14BE#32
  | _ => 0#32

noncomputable abbrev lit0t0_21 (i : Nat) : BitVec 32 := match i % 128 with
  | 0 => 0x3F800000#32
  | 1 => 0x3F7B14BE#32
  | 2 => 0x3F6C835E#32
  | 3 => 0x3F54DB31#32
  | 4 => 0x3F3504F3#32
  | 5 => 0x3F0E39DA#32
  | 6 => 0x3EC3EF15#32
  | 7 => 0x3E47C5C2#32
  | 8 => 0x248D3132#32
  | 9 => 0xBE47C5C2#32
  | 10 => 0xBEC3EF15#32
  | 11 => 0xBF0E39DA#32
  | 12 => 0xBF3504F3#32
  | 13 => 0xBF54DB31#32
  | 14 => 0xBF6C835E#32
  | 15 => 0xBF7B14BE#32
  | 16 => 0xBF800000#32
  | 17 => 0xBF7B14BE#32
  | 18 => 0xBF6C835E#32
  | 19 => 0xBF54DB31#32
  | 20 => 0xBF3504F3#32
  | 21 => 0xBF0E39DA#32
  | 22 => 0xBEC3EF15#32
  | 23 => 0xBE47C5C2#32
  | 24 => 0xA553C9CA#32
  | 25 => 0x3E47C5C2#32
  | 26 => 0x3EC3EF15#32
  | 27 => 0x3F0E39DA#32
  | 28 => 0x3F3504F3#32
  | 29 => 0x3F54DB31#32
  | 30 => 0x3F6C835E#32
  | 31 => 0x3F7B14BE#32
  | 32 => 0x3F800000#32
  | 33 => 0x3F7B14BE#32
  | 34 => 0x3F6C835E#32
  | 35 => 0x3F54DB31#32
  | 36 => 0x3F3504F3#32
  | 37 => 0x3F0E39DA#32
  | 38 => 0x3EC3EF15#32
  | 39 => 0x3E47C5C2#32
  | 40 => 0x248D3132#32
  | 41 => 0xBE47C5C2#32
  | 42 => 0xBEC3EF15#32
  | 43 => 0xBF0E39DA#32
  | 44 => 0xBF3504F3#32
  | 45 => 0xBF54DB31#32
  | 46 => 0xBF6C835E#32
  | 47 => 0xBF7B14BE#32
  | 48 => 0xBF800000#32
  | 49 => 0xBF7B14BE#32
  | 50 => 0xBF6C835E#32
  | 51 => 0xBF54DB31#32
  | 52 => 0xBF3504F3#32
  | 53 => 0xBF0E39DA#32
  | 54 => 0xBEC3EF15#32
  | 55 => 0xBE47C5C2#32
  | 56 => 0xA553C9CA#32
  | 57 => 0x3E47C5C2#32
  | 58 => 0x3EC3EF15#32
  | 59 => 0x3F0E39DA#32
  | 60 => 0x3F3504F3#32
  | 61 => 0x3F54DB31#32
  | 62 => 0x3F6C835E#32
  | 63 => 0x3F7B14BE#32
  | 64 => 0x3F800000#32
  | 65 => 0x3F7B14BE#32
  | 66 => 0x3F6C835E#32
  | 67 => 0x3F54DB31#32
  | 68 => 0x3F3504F3#32
  | 69 => 0x3F0E39DA#32
  | 70 => 0x3EC3EF15#32
  | 71 => 0x3E47C5C2#32
  | 72 => 0x248D3132#32
  | 73 => 0xBE47C5C2#32
  | 74 => 0xBEC3EF15#32
  | 75 => 0xBF0E39DA#32
  | 76 => 0xBF3504F3#32
  | 77 => 0xBF54DB31#32
  | 78 => 0xBF6C835E#32
  | 79 => 0xBF7B14BE#32
  | 80 => 0xBF800000#32
  | 81 => 0xBF7B14BE#32
  | 82 => 0xBF6C835E#32
  | 83 => 0xBF54DB31#32
  | 84 => 0xBF3504F3#32
  | 85 => 0xBF0E39DA#32
  | 86 => 0xBEC3EF15#32
  | 87 => 0xBE47C5C2#32
  | 88 => 0xA553C9CA#32
  | 89 => 0x3E47C5C2#32
  | 90 => 0x3EC3EF15#32
  | 91 => 0x3F0E39DA#32
  | 92 => 0x3F3504F3#32
  | 93 => 0x3F54DB31#32
  | 94 => 0x3F6C835E#32
  | 95 => 0x3F7B14BE#32
  | 96 => 0x3F800000#32
  | 97 => 0x3F7B14BE#32
  | 98 => 0x3F6C835E#32
  | 99 => 0x3F54DB31#32
  | 100 => 0x3F3504F3#32
  | 101 => 0x3F0E39DA#32
  | 102 => 0x3EC3EF15#32
  | 103 => 0x3E47C5C2#32
  | 104 => 0x248D3132#32
  | 105 => 0xBE47C5C2#32
  | 106 => 0xBEC3EF15#32
  | 107 => 0xBF0E39DA#32
  | 108 => 0xBF3504F3#32
  | 109 => 0xBF54DB31#32
  | 110 => 0xBF6C835E#32
  | 111 => 0xBF7B14BE#32
  | 112 => 0xBF800000#32
  | 113 => 0xBF7B14BE#32
  | 114 => 0xBF6C835E#32
  | 115 => 0xBF54DB31#32
  | 116 => 0xBF3504F3#32
  | 117 => 0xBF0E39DA#32
  | 118 => 0xBEC3EF15#32
  | 119 => 0xBE47C5C2#32
  | 120 => 0xA553C9CA#32
  | 121 => 0x3E47C5C2#32
  | 122 => 0x3EC3EF15#32
  | 123 => 0x3F0E39DA#32
  | 124 => 0x3F3504F3#32
  | 125 => 0x3F54DB31#32
  | 126 => 0x3F6C835E#32
  | 127 => 0x3F7B14BE#32
  | _ => 0#32

noncomputable abbrev lit0t0_22 (i : Nat) : BitVec 32 := match i % 128 with
  | 0 => 0x3F800000#32
  | 1 => 0x3F7B14BE#32
  | 2 => 0x3F6C835E#32
  | 3 => 0x3F54DB31#32
  | 4 => 0x3F3504F3#32
  | 5 => 0x3F0E39DA#32
  | 6 => 0x3EC3EF15#32
  | 7 => 0x3E47C5C2#32
  | 8 => 0x248D3132#32
  | 9 => 0xBE47C5C2#32
  | 10 => 0xBEC3EF15#32
  | 11 => 0xBF0E39DA#32
  | 12 => 0xBF3504F3#32
  | 13 => 0xBF54DB31#32
  | 14 => 0xBF6C835E#32
  | 15 => 0xBF7B14BE#32
  | 16 => 0xBF800000#32
  | 17 => 0xBF7B14BE#32
  | 18 => 0xBF6C835E#32
  | 19 => 0xBF54DB31#32
  | 20 => 0xBF3504F3#32
  | 21 => 0xBF0E39DA#32
  | 22 => 0xBEC3EF15#32
  | 23 => 0xBE47C5C2#32
  | 24 => 0xA553C9CA#32
  | 25 => 0x3E47C5C2#32
  | 26 => 0x3EC3EF15#32
  | 27 => 0x3F0E39DA#32
  | 28 => 0x3F3504F3#32
  | 29 => 0x3F54DB31#32
  | 30 => 0x3F6C835E#32
  | 31 => 0x3F7B14BE#32
  | 32 => 0x3F800000#32
  | 33 => 0x3F7B14BE#32
  | 34 => 0x3F6C835E#32
  | 35 => 0x3F54DB31#32
  | 36 => 0x3F3504F3#32
  | 37 => 0x3F0E39DA#32
  | 38 => 0x3EC3EF15#32
  | 39 => 0x3E47C5C2#32
  | 40 => 0x248D3132#32
  | 41 => 0xBE47C5C2#32
  | 42 => 0xBEC3EF15#32
  | 43 => 0xBF0E39DA#32
  | 44 => 0xBF3504F3#32
  | 45 => 0xBF54DB31#32
  | 46 => 0xBF6C835E#32
  | 47 => 0xBF7B14BE#32
  | 48 => 0xBF800000#32
  | 49 => 0xBF7B14BE#32
  | 50 => 0xBF6C835E#32
  | 51 => 0xBF54DB31#32
  | 52 => 0xBF3504F3#32
  | 53 => 0xBF0E39DA#32
  | 54 => 0xBEC3EF15#32
  | 55 => 0xBE47C5C2#32
  | 56 => 0xA553C9CA#32
  | 57 => 0x3E47C5C2#32
  | 58 => 0x3EC3EF15#32
  | 59 => 0x3F0E39DA#32
  | 60 => 0x3F3504F3#32
  | 61 => 0x3F54DB31#32
  | 62 => 0x3F6C835E#32
  | 63 => 0x3F7B14BE#32
  | 64 => 0x3F800000#32
  | 65 => 0x3F79EE89#32
  | 66 => 0x3F6803CA#32
  | 67 => 0x3F4B1934#32
  | 68 => 0x3F248DBB#32
  | 69 => 0x3EEC6A50#32
  | 70 => 0x3E8483EE#32
  | 71 => 0x3D32AA3E#32
  | 72 => 0xBE31D0D4#32
  | 73 => 0xBEC3EF15#32
  | 74 => 0xBF12D5E8#32
  | 75 => 0xBF3CBE35#32
  | 76 => 0xBF5DB3D7#32
  | 77 => 0xBF7426CB#32
  | 78 => 0xBF7F069E#32
  | 79 => 0xBF7DCF55#32
  | 80 => 0xBF708FB2#32
  | 81 => 0xBF57E880#32
  | 82 => 0xBF3504F3#32
  | 83 => 0xBF098C78#32
  | 84 => 0xBEAF1D44#32
  | 85 => 0xBE05A8A8#32
  | 86 => 0x3DB27EB6#32
  | 87 => 0x3E99F61C#32
  | 88 => 0x3F000000#32
  | 89 => 0x3F2CF37B#32
  | 90 => 0x3F51B3F3#32
  | 91 => 0x3F6C835E#32
  | 92 => 0x3F7C1C5C#32
  | 93 => 0x3F7FC1A0#32
  | 94 => 0x3F7746EA#32
  | 95 => 0x3F631324#32
  | 96 => 0x3F441B7D#32
  | 97 => 0x3F1BD7CA#32
  | 98 => 0x3ED8616C#32
  | 99 => 0x3E5DA259#32
  | 100 => 0x248D3132#32
  | 101 => 0xBE5DA259#32
  | 102 => 0xBED8616C#32
  | 103 => 0xBF1BD7CA#32
  | 104 => 0xBF441B7D#32
  | 105 => 0xBF631324#32
  | 106 => 0xBF7746EA#32
  | 107 => 0xBF7FC1A0#32
  | 108 => 0xBF7C1C5C#32
  | 109 => 0xBF6C835E#32
  | 110 => 0xBF51B3F3#32
  | 111 => 0xBF2CF37B#32
  | 112 => 0xBF000000#32
  | 113 => 0xBE99F61C#32
  | 114 => 0xBDB27EB6#32
  | 115 => 0x3E05A8A8#32
  | 116 => 0x3EAF1D44#32
  | 117 => 0x3F098C78#32
  | 118 => 0x3F3504F3#32
  | 119 => 0x3F57E880#32
  | 120 => 0x3F708FB2#32
  | 121 => 0x3F7DCF55#32
  | 122 => 0x3F7F069E#32
  | 123 => 0x3F7426CB#32
  | 124 => 0x3F5DB3D7#32
  | 125 => 0x3F3CBE35#32
  | 126 => 0x3F12D5E8#32
  | 127 => 0x3EC3EF15#32
  | _ => 0#32

noncomputable abbrev lit0t0_23 (i : Nat) : BitVec 32 := match i % 128 with
  | 0 => 0x3E31D0D4#32
  | 1 => 0xBD32AA3E#32
  | 2 => 0xBE8483EE#32
  | 3 => 0xBEEC6A50#32
  | 4 => 0xBF248DBB#32
  | 5 => 0xBF4B1934#32
  | 6 => 0xBF6803CA#32
  | 7 => 0xBF79EE89#32
  | 8 => 0xBF800000#32
  | 9 => 0xBF79EE89#32
  | 10 => 0xBF6803CA#32
  | 11 => 0xBF4B1934#32
  | 12 => 0xBF248DBB#32
  | 13 => 0xBEEC6A50#32
  | 14 => 0xBE8483EE#32
  | 15 => 0xBD32AA3E#32
  | 16 => 0x3E31D0D4#32
  | 17 => 0x3EC3EF15#32
  | 18 => 0x3F12D5E8#32
  | 19 => 0x3F3CBE35#32
  | 20 => 0x3F5DB3D7#32
  | 21 => 0x3F7426CB#32
  | 22 => 0x3F7F069E#32
  | 23 => 0x3F7DCF55#32
  | 24 => 0x3F708FB2#32
  | 25 => 0x3F57E880#32
  | 26 => 0x3F3504F3#32
  | 27 => 0x3F098C78#32
  | 28 => 0x3EAF1D44#32
  | 29 => 0x3E05A8A8#32
  | 30 => 0xBDB27EB6#32
  | 31 => 0xBE99F61C#32
  | 32 => 0xBF000000#32
  | 33 => 0xBF2CF37B#32
  | 34 => 0xBF51B3F3#32
  | 35 => 0xBF6C835E#32
  | 36 => 0xBF7C1C5C#32
  | 37 => 0xBF7FC1A0#32
  | 38 => 0xBF7746EA#32
  | 39 => 0xBF631324#32
  | 40 => 0xBF441B7D#32
  | 41 => 0xBF1BD7CA#32
  | 42 => 0xBED8616C#32
  | 43 => 0xBE5DA259#32
  | 44 => 0xA553C9CA#32
  | 45 => 0x3E5DA259#32
  | 46 => 0x3ED8616C#32
  | 47 => 0x3F1BD7CA#32
  | 48 => 0x3F441B7D#32
  | 49 => 0x3F631324#32
  | 50 => 0x3F7746EA#32
  | 51 => 0x3F7FC1A0#32
  | 52 => 0x3F7C1C5C#32
  | 53 => 0x3F6C835E#32
  | 54 => 0x3F51B3F3#32
  | 55 => 0x3F2CF37B#32
  | 56 => 0x3F000000#32
  | 57 => 0x3E99F61C#32
  | 58 => 0x3DB27EB6#32
  | 59 => 0xBE05A8A8#32
  | 60 => 0xBEAF1D44#32
  | 61 => 0xBF098C78#32
  | 62 => 0xBF3504F3#32
  | 63 => 0xBF57E880#32
  | 64 => 0xBF708FB2#32
  | 65 => 0xBF7DCF55#32
  | 66 => 0xBF7F069E#32
  | 67 => 0xBF7426CB#32
  | 68 => 0xBF5DB3D7#32
  | 69 => 0xBF3CBE35#32
  | 70 => 0xBF12D5E8#32
  | 71 => 0xBEC3EF15#32
  | 72 => 0xBE31D0D4#32
  | 73 => 0x3D32AA3E#32
  | 74 => 0x3E8483EE#32
  | 75 => 0x3EEC6A50#32
  | 76 => 0x3F248DBB#32
  | 77 => 0x3F4B1934#32
  | 78 => 0x3F6803CA#32
  | 79 => 0x3F79EE89#32
  | 80 => 0x3F800000#32
  | 81 => 0x3F79EE89#32
  | 82 => 0x3F6803CA#32
  | 83 => 0x3F4B1934#32
  | 84 => 0x3F248DBB#32
  | 85 => 0x3EEC6A50#32
  | 86 => 0x3E8483EE#32
  | 87 => 0x3D32AA3E#32
  | 88 => 0xBE31D0D4#32
  | 89 => 0xBEC3EF15#32
  | 90 => 0xBF12D5E8#32
  | 91 => 0xBF3CBE35#32
  | 92 => 0xBF5DB3D7#32
  | 93 => 0xBF7426CB#32
  | 94 => 0xBF7F069E#32
  | 95 => 0xBF7DCF55#32
  | 96 => 0xBF708FB2#32
  | 97 => 0xBF57E880#32
  | 98 => 0xBF3504F3#32
  | 99 => 0xBF098C78#32
  | 100 => 0xBEAF1D44#32
  | 101 => 0xBE05A8A8#32
  | 102 => 0x3DB27EB6#32
  | 103 => 0x3E99F61C#32
  | 104 => 0x3F000000#32
  | 105 => 0x3F2CF37B#32
  | 106 => 0x3F51B3F3#32
  | 107 => 0x3F6C835E#32
  | 108 => 0x3F7C1C5C#32
  | 109 => 0x3F7FC1A0#32
  | 110 => 0x3F7746EA#32
  | 111 => 0x3F631324#32
  | 112 => 0x3F441B7D#32
  | 113 => 0x3F1BD7CA#32
  | 114 => 0x3ED8616C#32
  | 115 => 0x3E5DA259#32
  | 116 => 0x248D3132#32
  | 117 => 0xBE5DA259#32
  | 118 => 0xBED8616C#32
  | 119 => 0xBF1BD7CA#32
  | 120 => 0xBF441B7D#32
  | 121 => 0xBF631324#32
  | 122 => 0xBF7746EA#32
  | 123 => 0xBF7FC1A0#32
  | 124 => 0xBF7C1C5C#32
  | 125 => 0xBF6C835E#32
  | 126 => 0xBF51B3F3#32
  | 127 => 0xBF2CF37B#32
  | _ => 0#32

noncomputable abbrev lit0t0_24 (i : Nat) : BitVec 32 := match i % 128 with
  | 0 => 0xBF000000#32
  | 1 => 0xBE99F61C#32
  | 2 => 0xBDB27EB6#32
  | 3 => 0x3E05A8A8#32
  | 4 => 0x3EAF1D44#32
  | 5 => 0x3F098C78#32
  | 6 => 0x3F3504F3#32
  | 7 => 0x3F57E880#32
  | 8 => 0x3F708FB2#32
  | 9 => 0x3F7DCF55#32
  | 10 => 0x3F7F069E#32
  | 11 => 0x3F7426CB#32
  | 12 => 0x3F5DB3D7#32
  | 13 => 0x3F3CBE35#32
  | 14 => 0x3F12D5E8#32
  | 15 => 0x3EC3EF15#32
  | 16 => 0x3E31D0D4#32
  | 17 => 0xBD32AA3E#32
  | 18 => 0xBE8483EE#32
  | 19 => 0xBEEC6A50#32
  | 20 => 0xBF248DBB#32
  | 21 => 0xBF4B1934#32
  | 22 => 0xBF6803CA#32
  | 23 => 0xBF79EE89#32
  | 24 => 0xBF800000#32
  | 25 => 0xBF79EE89#32
  | 26 => 0xBF6803CA#32
  | 27 => 0xBF4B1934#32
  | 28 => 0xBF248DBB#32
  | 29 => 0xBEEC6A50#32
  | 30 => 0xBE8483EE#32
  | 31 => 0xBD32AA3E#32
  | 32 => 0x3E31D0D4#32
  | 33 => 0x3EC3EF15#32
  | 34 => 0x3F12D5E8#32
  | 35 => 0x3F3CBE35#32
  | 36 => 0x3F5DB3D7#32
  | 37 => 0x3F7426CB#32
  | 38 => 0x3F7F069E#32
  | 39 => 0x3F7DCF55#32
  | 40 => 0x3F708FB2#32
  | 41 => 0x3F57E880#32
  | 42 => 0x3F3504F3#32
  | 43 => 0x3F098C78#32
  | 44 => 0x3EAF1D44#32
  | 45 => 0x3E05A8A8#32
  | 46 => 0xBDB27EB6#32
  | 47 => 0xBE99F61C#32
  | 48 => 0xBF000000#32
  | 49 => 0xBF2CF37B#32
  | 50 => 0xBF51B3F3#32
  | 51 => 0xBF6C835E#32
  | 52 => 0xBF7C1C5C#32
  | 53 => 0xBF7FC1A0#32
  | 54 => 0xBF7746EA#32
  | 55 => 0xBF631324#32
  | 56 => 0xBF441B7D#32
  | 57 => 0xBF1BD7CA#32
  | 58 => 0xBED8616C#32
  | 59 => 0xBE5DA259#32
  | 60 => 0xA553C9CA#32
  | 61 => 0x3E5DA259#32
  | 62 => 0x3ED8616C#32
  | 63 => 0x3F1BD7CA#32
  | 64 => 0x3F441B7D#32
  | 65 => 0x3F631324#32
  | 66 => 0x3F7746EA#32
  | 67 => 0x3F7FC1A0#32
  | 68 => 0x3F7C1C5C#32
  | 69 => 0x3F6C835E#32
  | 70 => 0x3F51B3F3#32
  | 71 => 0x3F2CF37B#32
  | 72 => 0x3F000000#32
  | 73 => 0x3E99F61C#32
  | 74 => 0x3DB27EB6#32
  | 75 => 0xBE05A8A8#32
  | 76 => 0xBEAF1D44#32
  | 77 => 0xBF098C78#32
  | 78 => 0xBF3504F3#32
  | 79 => 0xBF57E880#32
  | 80 => 0xBF708FB2#32
  | 81 => 0xBF7DCF55#32
  | 82 => 0xBF7F069E#32
  | 83 => 0xBF7426CB#32
  | 84 => 0xBF5DB3D7#32
  | 85 => 0xBF3CBE35#32
  | 86 => 0xBF12D5E8#32
  | 87 => 0xBEC3EF15#32
  | 88 => 0xBE31D0D4#32
  | 89 => 0x3D32AA3E#32
  | 90 => 0x3E8483EE#32
  | 91 => 0x3EEC6A50#32
  | 92 => 0x3F248DBB#32
  | 93 => 0x3F4B1934#32
  | 94 => 0x3F6803CA#32
  | 95 => 0x3F79EE89#32
  | 96 => 0x3F800000#32
  | 97 => 0x3F78A9E0#32
  | 98 => 0x3F631324#32
  | 99 => 0x3F407893#32
  | 100 => 0x3F12D5E8#32
  | 101 => 0x3EB9917B#32
  | 102 => 0x3E05A8A8#32
  | 103 => 0xBDDEF599#32
  | 104 => 0xBEAF1D44#32
  | 105 => 0xBF0E39DA#32
  | 106 => 0xBF3CBE35#32
  | 107 => 0xBF60712A#32
  | 108 => 0xBF7746EA#32
  | 109 => 0xBF7FF067#32
  | 110 => 0xBF79EE89#32
  | 111 => 0xBF659974#32
  | 112 => 0xBF441B7D#32
  | 113 => 0xBF176012#32
  | 114 => 0xBEC3EF15#32
  | 115 => 0xBE1BC63C#32
  | 116 => 0x3DB27EB6#32
  | 117 => 0x3EA493B7#32
  | 118 => 0x3F098C78#32
  | 119 => 0x3F38ECD8#32
  | 120 => 0x3F5DB3D7#32
  | 121 => 0x3F75C5D4#32
  | 122 => 0x3F7FC1A0#32
  | 123 => 0x3F7B14BE#32
  | 124 => 0x3F6803CA#32
  | 125 => 0x3F47A682#32
  | 126 => 0x3F1BD7CA#32
  | 127 => 0x3ECE34D0#32
  | _ => 0#32

noncomputable abbrev lit0t0_25 (i : Nat) : BitVec 32 := match i % 128 with
  | 0 => 0x3E31D0D4#32
  | 1 => 0xBD85F213#32
  | 2 => 0xBE99F61C#32
  | 3 => 0xBF04CE53#32
  | 4 => 0xBF3504F3#32
  | 5 => 0xBF5ADB81#32
  | 6 => 0xBF7426CB#32
  | 7 => 0xBF7F73AF#32
  | 8 => 0xBF7C1C5C#32
  | 9 => 0xBF6A51DA#32
  | 10 => 0xBF4B1934#32
  | 11 => 0xBF203C85#32
  | 12 => 0xBED8616C#32
  | 13 => 0xBE47C5C2#32
  | 14 => 0x3D32AA3E#32
  | 15 => 0x3E8F45C0#32
  | 16 => 0x3F000000#32
  | 17 => 0x3F310700#32
  | 18 => 0x3F57E880#32
  | 19 => 0x3F726A03#32
  | 20 => 0x3F7F069E#32
  | 21 => 0x3F7D0543#32
  | 22 => 0x3F6C835E#32
  | 23 => 0x3F4E7327#32
  | 24 => 0x3F248DBB#32
  | 25 => 0x3EE273AA#32
  | 26 => 0x3E5DA259#32
  | 27 => 0xBCB2B521#32
  | 28 => 0xBE8483EE#32
  | 29 => 0xBEF64429#32
  | 30 => 0xBF2CF37B#32
  | 31 => 0xBF54DB31#32
  | 32 => 0xBF708FB2#32
  | 33 => 0xBF7E7A7A#32
  | 34 => 0xBF7DCF55#32
  | 35 => 0xBF6E9811#32
  | 36 => 0xBF51B3F3#32
  | 37 => 0xBF28CAE3#32
  | 38 => 0xBEEC6A50#32
  | 39 => 0xBE7363EE#32
  | 40 => 0xA553C9CA#32
  | 41 => 0x3E7363EE#32
  | 42 => 0x3EEC6A50#32
  | 43 => 0x3F28CAE3#32
  | 44 => 0x3F51B3F3#32
  | 45 => 0x3F6E9811#32
  | 46 => 0x3F7DCF55#32
  | 47 => 0x3F7E7A7A#32
  | 48 => 0x3F708FB2#32
  | 49 => 0x3F54DB31#32
  | 50 => 0x3F2CF37B#32
  | 51 => 0x3EF64429#32
  | 52 => 0x3E8483EE#32
  | 53 => 0x3CB2B521#32
  | 54 => 0xBE5DA259#32
  | 55 => 0xBEE273AA#32
  | 56 => 0xBF248DBB#32
  | 57 => 0xBF4E7327#32
  | 58 => 0xBF6C835E#32
  | 59 => 0xBF7D0543#32
  | 60 => 0xBF7F069E#32
  | 61 => 0xBF726A03#32
  | 62 => 0xBF57E880#32
  | 63 => 0xBF310700#32
  | 64 => 0xBF000000#32
  | 65 => 0xBE8F45C0#32
  | 66 => 0xBD32AA3E#32
  | 67 => 0x3E47C5C2#32
  | 68 => 0x3ED8616C#32
  | 69 => 0x3F203C85#32
  | 70 => 0x3F4B1934#32
  | 71 => 0x3F6A51DA#32
  | 72 => 0x3F7C1C5C#32
  | 73 => 0x3F7F73AF#32
  | 74 => 0x3F7426CB#32
  | 75 => 0x3F5ADB81#32
  | 76 => 0x3F3504F3#32
  | 77 => 0x3F04CE53#32
  | 78 => 0x3E99F61C#32
  | 79 => 0x3D85F213#32
  | 80 => 0xBE31D0D4#32
  | 81 => 0xBECE34D0#32
  | 82 => 0xBF1BD7CA#32
  | 83 => 0xBF47A682#32
  | 84 => 0xBF6803CA#32
  | 85 => 0xBF7B14BE#32
  | 86 => 0xBF7FC1A0#32
  | 87 => 0xBF75C5D4#32
  | 88 => 0xBF5DB3D7#32
  | 89 => 0xBF38ECD8#32
  | 90 => 0xBF098C78#32
  | 91 => 0xBEA493B7#32
  | 92 => 0xBDB27EB6#32
  | 93 => 0x3E1BC63C#32
  | 94 => 0x3EC3EF15#32
  | 95 => 0x3F176012#32
  | 96 => 0x3F441B7D#32
  | 97 => 0x3F659974#32
  | 98 => 0x3F79EE89#32
  | 99 => 0x3F7FF067#32
  | 100 => 0x3F7746EA#32
  | 101 => 0x3F60712A#32
  | 102 => 0x3F3CBE35#32
  | 103 => 0x3F0E39DA#32
  | 104 => 0x3EAF1D44#32
  | 105 => 0x3DDEF599#32
  | 106 => 0xBE05A8A8#32
  | 107 => 0xBEB9917B#32
  | 108 => 0xBF12D5E8#32
  | 109 => 0xBF407893#32
  | 110 => 0xBF631324#32
  | 111 => 0xBF78A9E0#32
  | 112 => 0xBF800000#32
  | 113 => 0xBF78A9E0#32
  | 114 => 0xBF631324#32
  | 115 => 0xBF407893#32
  | 116 => 0xBF12D5E8#32
  | 117 => 0xBEB9917B#32
  | 118 => 0xBE05A8A8#32
  | 119 => 0x3DDEF599#32
  | 120 => 0x3EAF1D44#32
  | 121 => 0x3F0E39DA#32
  | 122 => 0x3F3CBE35#32
  | 123 => 0x3F60712A#32
  | 124 => 0x3F7746EA#32
  | 125 => 0x3F7FF067#32
  | 126 => 0x3F79EE89#32
  | 127 => 0x3F659974#32
  | _ => 0#32

noncomputable abbrev lit0t0_26 (i : Nat) : BitVec 32 := match i % 128 with
  | 0 => 0x3F441B7D#32
  | 1 => 0x3F176012#32
  | 2 => 0x3EC3EF15#32
  | 3 => 0x3E1BC63C#32
  | 4 => 0xBDB27EB6#32
  | 5 => 0xBEA493B7#32
  | 6 => 0xBF098C78#32
  | 7 => 0xBF38ECD8#32
  | 8 => 0xBF5DB3D7#32
  | 9 => 0xBF75C5D4#32
  | 10 => 0xBF7FC1A0#32
  | 11 => 0xBF7B14BE#32
  | 12 => 0xBF6803CA#32
  | 13 => 0xBF47A682#32
  | 14 => 0xBF1BD7CA#32
  | 15 => 0xBECE34D0#32
  | 16 => 0xBE31D0D4#32
  | 17 => 0x3D85F213#32
  | 18 => 0x3E99F61C#32
  | 19 => 0x3F04CE53#32
  | 20 => 0x3F3504F3#32
  | 21 => 0x3F5ADB81#32
  | 22 => 0x3F7426CB#32
  | 23 => 0x3F7F73AF#32
  | 24 => 0x3F7C1C5C#32
  | 25 => 0x3F6A51DA#32
  | 26 => 0x3F4B1934#32
  | 27 => 0x3F203C85#32
  | 28 => 0x3ED8616C#32
  | 29 => 0x3E47C5C2#32
  | 30 => 0xBD32AA3E#32
  | 31 => 0xBE8F45C0#32
  | 32 => 0xBF000000#32
  | 33 => 0xBF310700#32
  | 34 => 0xBF57E880#32
  | 35 => 0xBF726A03#32
  | 36 => 0xBF7F069E#32
  | 37 => 0xBF7D0543#32
  | 38 => 0xBF6C835E#32
  | 39 => 0xBF4E7327#32
  | 40 => 0xBF248DBB#32
  | 41 => 0xBEE273AA#32
  | 42 => 0xBE5DA259#32
  | 43 => 0x3CB2B521#32
  | 44 => 0x3E8483EE#32
  | 45 => 0x3EF64429#32
  | 46 => 0x3F2CF37B#32
  | 47 => 0x3F54DB31#32
  | 48 => 0x3F708FB2#32
  | 49 => 0x3F7E7A7A#32
  | 50 => 0x3F7DCF55#32
  | 51 => 0x3F6E9811#32
  | 52 => 0x3F51B3F3#32
  | 53 => 0x3F28CAE3#32
  | 54 => 0x3EEC6A50#32
  | 55 => 0x3E7363EE#32
  | 56 => 0x248D3132#32
  | 57 => 0xBE7363EE#32
  | 58 => 0xBEEC6A50#32
  | 59 => 0xBF28CAE3#32
  | 60 => 0xBF51B3F3#32
  | 61 => 0xBF6E9811#32
  | 62 => 0xBF7DCF55#32
  | 63 => 0xBF7E7A7A#32
  | 64 => 0xBF708FB2#32
  | 65 => 0xBF54DB31#32
  | 66 => 0xBF2CF37B#32
  | 67 => 0xBEF64429#32
  | 68 => 0xBE8483EE#32
  | 69 => 0xBCB2B521#32
  | 70 => 0x3E5DA259#32
  | 71 => 0x3EE273AA#32
  | 72 => 0x3F248DBB#32
  | 73 => 0x3F4E7327#32
  | 74 => 0x3F6C835E#32
  | 75 => 0x3F7D0543#32
  | 76 => 0x3F7F069E#32
  | 77 => 0x3F726A03#32
  | 78 => 0x3F57E880#32
  | 79 => 0x3F310700#32
  | 80 => 0x3F000000#32
  | 81 => 0x3E8F45C0#32
  | 82 => 0x3D32AA3E#32
  | 83 => 0xBE47C5C2#32
  | 84 => 0xBED8616C#32
  | 85 => 0xBF203C85#32
  | 86 => 0xBF4B1934#32
  | 87 => 0xBF6A51DA#32
  | 88 => 0xBF7C1C5C#32
  | 89 => 0xBF7F73AF#32
  | 90 => 0xBF7426CB#32
  | 91 => 0xBF5ADB81#32
  | 92 => 0xBF3504F3#32
  | 93 => 0xBF04CE53#32
  | 94 => 0xBE99F61C#32
  | 95 => 0xBD85F213#32
  | 96 => 0x3E31D0D4#32
  | 97 => 0x3ECE34D0#32
  | 98 => 0x3F1BD7CA#32
  | 99 => 0x3F47A682#32
  | 100 => 0x3F6803CA#32
  | 101 => 0x3F7B14BE#32
  | 102 => 0x3F7FC1A0#32
  | 103 => 0x3F75C5D4#32
  | 104 => 0x3F5DB3D7#32
  | 105 => 0x3F38ECD8#32
  | 106 => 0x3F098C78#32
  | 107 => 0x3EA493B7#32
  | 108 => 0x3DB27EB6#32
  | 109 => 0xBE1BC63C#32
  | 110 => 0xBEC3EF15#32
  | 111 => 0xBF176012#32
  | 112 => 0xBF441B7D#32
  | 113 => 0xBF659974#32
  | 114 => 0xBF79EE89#32
  | 115 => 0xBF7FF067#32
  | 116 => 0xBF7746EA#32
  | 117 => 0xBF60712A#32
  | 118 => 0xBF3CBE35#32
  | 119 => 0xBF0E39DA#32
  | 120 => 0xBEAF1D44#32
  | 121 => 0xBDDEF599#32
  | 122 => 0x3E05A8A8#32
  | 123 => 0x3EB9917B#32
  | 124 => 0x3F12D5E8#32
  | 125 => 0x3F407893#32
  | 126 => 0x3F631324#32
  | 127 => 0x3F78A9E0#32
  | _ => 0#32

noncomputable abbrev lit0t0_27 (i : Nat) : BitVec 32 := match i % 128 with
  | 0 => 0x3F800000#32
  | 1 => 0x3F7746EA#32
  | 2 => 0x3F5DB3D7#32
  | 3 => 0x3F3504F3#32
  | 4 => 0x3F000000#32
  | 5 => 0x3E8483EE#32
  | 6 => 0x248D3132#32
  | 7 => 0xBE8483EE#32
  | 8 => 0xBF000000#32
  | 9 => 0xBF3504F3#32
  | 10 => 0xBF5DB3D7#32
  | 11 => 0xBF7746EA#32
  | 12 => 0xBF800000#32
  | 13 => 0xBF7746EA#32
  | 14 => 0xBF5DB3D7#32
  | 15 => 0xBF3504F3#32
  | 16 => 0xBF000000#32
  | 17 => 0xBE8483EE#32
  | 18 => 0xA553C9CA#32
  | 19 => 0x3E8483EE#32
  | 20 => 0x3F000000#32
  | 21 => 0x3F3504F3#32
  | 22 => 0x3F5DB3D7#32
  | 23 => 0x3F7746EA#32
  | 24 => 0x3F800000#32
  | 25 => 0x3F7746EA#32
  | 26 => 0x3F5DB3D7#32
  | 27 => 0x3F3504F3#32
  | 28 => 0x3F000000#32
  | 29 => 0x3E8483EE#32
  | 30 => 0x248D3132#32
  | 31 => 0xBE8483EE#32
  | 32 => 0xBF000000#32
  | 33 => 0xBF3504F3#32
  | 34 => 0xBF5DB3D7#32
  | 35 => 0xBF7746EA#32
  | 36 => 0xBF800000#32
  | 37 => 0xBF7746EA#32
  | 38 => 0xBF5DB3D7#32
  | 39 => 0xBF3504F3#32
  | 40 => 0xBF000000#32
  | 41 => 0xBE8483EE#32
  | 42 => 0xA553C9CA#32
  | 43 => 0x3E8483EE#32
  | 44 => 0x3F000000#32
  | 45 => 0x3F3504F3#32
  | 46 => 0x3F5DB3D7#32
  | 47 => 0x3F7746EA#32
  | 48 => 0x3F800000#32
  | 49 => 0x3F7746EA#32
  | 50 => 0x3F5DB3D7#32
  | 51 => 0x3F3504F3#32
  | 52 => 0x3F000000#32
  | 53 => 0x3E8483EE#32
  | 54 => 0x248D3132#32
  | 55 => 0xBE8483EE#32
  | 56 => 0xBF000000#32
  | 57 => 0xBF3504F3#32
  | 58 => 0xBF5DB3D7#32
  | 59 => 0xBF7746EA#32
  | 60 => 0xBF800000#32
  | 61 => 0xBF7746EA#32
  | 62 => 0xBF5DB3D7#32
  | 63 => 0xBF3504F3#32
  | 64 => 0xBF000000#32
  | 65 => 0xBE8483EE#32
  | 66 => 0xA553C9CA#32
  | 67 => 0x3E8483EE#32
  | 68 => 0x3F000000#32
  | 69 => 0x3F3504F3#32
  | 70 => 0x3F5DB3D7#32
  | 71 => 0x3F7746EA#32
  | 72 => 0x3F800000#32
  | 73 => 0x3F7746EA#32
  | 74 => 0x3F5DB3D7#32
  | 75 => 0x3F3504F3#32
  | 76 => 0x3F000000#32
  | 77 => 0x3E8483EE#32
  | 78 => 0x248D3132#32
  | 79 => 0xBE8483EE#32
  | 80 => 0xBF000000#32
  | 81 => 0xBF3504F3#32
  | 82 => 0xBF5DB3D7#32
  | 83 => 0xBF7746EA#32
  | 84 => 0xBF800000#32
  | 85 => 0xBF7746EA#32
  | 86 => 0xBF5DB3D7#32
  | 87 => 0xBF3504F3#32
  | 88 => 0xBF000000#32
  | 89 => 0xBE8483EE#32
  | 90 => 0xA553C9CA#32
  | 91 => 0x3E8483EE#32
  | 92 => 0x3F000000#32
  | 93 => 0x3F3504F3#32
  | 94 => 0x3F5DB3D7#32
  | 95 => 0x3F7746EA#32
  | 96 => 0x3F800000#32
  | 97 => 0x3F7746EA#32
  | 98 => 0x3F5DB3D7#32
  | 99 => 0x3F3504F3#32
  | 100 => 0x3F000000#32
  | 101 => 0x3E8483EE#32
  | 102 => 0x248D3132#32
  | 103 => 0xBE8483EE#32
  | 104 => 0xBF000000#32
  | 105 => 0xBF3504F3#32
  | 106 => 0xBF5DB3D7#32
  | 107 => 0xBF7746EA#32
  | 108 => 0xBF800000#32
  | 109 => 0xBF7746EA#32
  | 110 => 0xBF5DB3D7#32
  | 111 => 0xBF3504F3#32
  | 112 => 0xBF000000#32
  | 113 => 0xBE8483EE#32
  | 114 => 0xA553C9CA#32
  | 115 => 0x3E8483EE#32
  | 116 => 0x3F000000#32
  | 117 => 0x3F3504F3#32
  | 118 => 0x3F5DB3D7#32
  | 119 => 0x3F7746EA#32
  | 120 => 0x3F800000#32
  | 121 => 0x3F7746EA#32
  | 122 => 0x3F5DB3D7#32
  | 123 => 0x3F3504F3#32
  | 124 => 0x3F000000#32
  | 125 => 0x3E8483EE#32
  | 126 => 0x248D3132#32
  | 127 => 0xBE8483EE#32
  | _ => 0#32

noncomputable abbrev lit0t0_28 (i : Nat) : BitVec 32 := match i % 128 with
  | 0 => 0xBF000000#32
  | 1 => 0xBF3504F3#32
  | 2 => 0xBF5DB3D7#32
  | 3 => 0xBF7746EA#32
  | 4 => 0xBF800000#32
  | 5 => 0xBF7746EA#32
  | 6 => 0xBF5DB3D7#32
  | 7 => 0xBF3504F3#32
  | 8 => 0xBF000000#32
  | 9 => 0xBE8483EE#32
  | 10 => 0xA553C9CA#32
  | 11 => 0x3E8483EE#32
  | 12 => 0x3F000000#32
  | 13 => 0x3F3504F3#32
  | 14 => 0x3F5DB3D7#32
  | 15 => 0x3F7746EA#32
  | 16 => 0x3F800000#32
  | 17 => 0x3F7746EA#32
  | 18 => 0x3F5DB3D7#32
  | 19 => 0x3F3504F3#32
  | 20 => 0x3F000000#32
  | 21 => 0x3E8483EE#32
  | 22 => 0x248D3132#32
  | 23 => 0xBE8483EE#32
  | 24 => 0xBF000000#32
  | 25 => 0xBF3504F3#32
  | 26 => 0xBF5DB3D7#32
  | 27 => 0xBF7746EA#32
  | 28 => 0xBF800000#32
  | 29 => 0xBF7746EA#32
  | 30 => 0xBF5DB3D7#32
  | 31 => 0xBF3504F3#32
  | 32 => 0xBF000000#32
  | 33 => 0xBE8483EE#32
  | 34 => 0xA553C9CA#32
  | 35 => 0x3E8483EE#32
  | 36 => 0x3F000000#32
  | 37 => 0x3F3504F3#32
  | 38 => 0x3F5DB3D7#32
  | 39 => 0x3F7746EA#32
  | 40 => 0x3F800000#32
  | 41 => 0x3F7746EA#32
  | 42 => 0x3F5DB3D7#32
  | 43 => 0x3F3504F3#32
  | 44 => 0x3F000000#32
  | 45 => 0x3E8483EE#32
  | 46 => 0x248D3132#32
  | 47 => 0xBE8483EE#32
  | 48 => 0xBF000000#32
  | 49 => 0xBF3504F3#32
  | 50 => 0xBF5DB3D7#32
  | 51 => 0xBF7746EA#32
  | 52 => 0xBF800000#32
  | 53 => 0xBF7746EA#32
  | 54 => 0xBF5DB3D7#32
  | 55 => 0xBF3504F3#32
  | 56 => 0xBF000000#32
  | 57 => 0xBE8483EE#32
  | 58 => 0xA553C9CA#32
  | 59 => 0x3E8483EE#32
  | 60 => 0x3F000000#32
  | 61 => 0x3F3504F3#32
  | 62 => 0x3F5DB3D7#32
  | 63 => 0x3F7746EA#32
  | 64 => 0x3F800000#32
  | 65 => 0x3F7746EA#32
  | 66 => 0x3F5DB3D7#32
  | 67 => 0x3F3504F3#32
  | 68 => 0x3F000000#32
  | 69 => 0x3E8483EE#32
  | 70 => 0x248D3132#32
  | 71 => 0xBE8483EE#32
  | 72 => 0xBF000000#32
  | 73 => 0xBF3504F3#32
  | 74 => 0xBF5DB3D7#32
  | 75 => 0xBF7746EA#32
  | 76 => 0xBF800000#32
  | 77 => 0xBF7746EA#32
  | 78 => 0xBF5DB3D7#32
  | 79 => 0xBF3504F3#32
  | 80 => 0xBF000000#32
  | 81 => 0xBE8483EE#32
  | 82 => 0xA553C9CA#32
  | 83 => 0x3E8483EE#32
  | 84 => 0x3F000000#32
  | 85 => 0x3F3504F3#32
  | 86 => 0x3F5DB3D7#32
  | 87 => 0x3F7746EA#32
  | 88 => 0x3F800000#32
  | 89 => 0x3F7746EA#32
  | 90 => 0x3F5DB3D7#32
  | 91 => 0x3F3504F3#32
  | 92 => 0x3F000000#32
  | 93 => 0x3E8483EE#32
  | 94 => 0x248D3132#32
  | 95 => 0xBE8483EE#32
  | 96 => 0xBF000000#32
  | 97 => 0xBF3504F3#32
  | 98 => 0xBF5DB3D7#32
  | 99 => 0xBF7746EA#32
  | 100 => 0xBF800000#32
  | 101 => 0xBF7746EA#32
  | 102 => 0xBF5DB3D7#32
  | 103 => 0xBF3504F3#32
  | 104 => 0xBF000000#32
  | 105 => 0xBE8483EE#32
  | 106 => 0xA553C9CA#32
  | 107 => 0x3E8483EE#32
  | 108 => 0x3F000000#32
  | 109 => 0x3F3504F3#32
  | 110 => 0x3F5DB3D7#32
  | 111 => 0x3F7746EA#32
  | 112 => 0x3F800000#32
  | 113 => 0x3F7746EA#32
  | 114 => 0x3F5DB3D7#32
  | 115 => 0x3F3504F3#32
  | 116 => 0x3F000000#32
  | 117 => 0x3E8483EE#32
  | 118 => 0x248D3132#32
  | 119 => 0xBE8483EE#32
  | 120 => 0xBF000000#32
  | 121 => 0xBF3504F3#32
  | 122 => 0xBF5DB3D7#32
  | 123 => 0xBF7746EA#32
  | 124 => 0xBF800000#32
  | 125 => 0xBF7746EA#32
  | 126 => 0xBF5DB3D7#32
  | 127 => 0xBF3504F3#32
  | _ => 0#32

noncomputable abbrev lit0t0_29 (i : Nat) : BitVec 32 := match i % 128 with
  | 0 => 0xBF000000#32
  | 1 => 0xBE8483EE#32
  | 2 => 0xA553C9CA#32
  | 3 => 0x3E8483EE#32
  | 4 => 0x3F000000#32
  | 5 => 0x3F3504F3#32
  | 6 => 0x3F5DB3D7#32
  | 7 => 0x3F7746EA#32
  | 8 => 0x3F800000#32
  | 9 => 0x3F7746EA#32
  | 10 => 0x3F5DB3D7#32
  | 11 => 0x3F3504F3#32
  | 12 => 0x3F000000#32
  | 13 => 0x3E8483EE#32
  | 14 => 0x248D3132#32
  | 15 => 0xBE8483EE#32
  | 16 => 0xBF000000#32
  | 17 => 0xBF3504F3#32
  | 18 => 0xBF5DB3D7#32
  | 19 => 0xBF7746EA#32
  | 20 => 0xBF800000#32
  | 21 => 0xBF7746EA#32
  | 22 => 0xBF5DB3D7#32
  | 23 => 0xBF3504F3#32
  | 24 => 0xBF000000#32
  | 25 => 0xBE8483EE#32
  | 26 => 0xA553C9CA#32
  | 27 => 0x3E8483EE#32
  | 28 => 0x3F000000#32
  | 29 => 0x3F3504F3#32
  | 30 => 0x3F5DB3D7#32
  | 31 => 0x3F7746EA#32
  | 32 => 0x3F800000#32
  | 33 => 0x3F75C5D4#32
  | 34 => 0x3F57E880#32
  | 35 => 0x3F28CAE3#32
  | 36 => 0x3ED8616C#32
  | 37 => 0x3E1BC63C#32
  | 38 => 0xBE05A8A8#32
  | 39 => 0xBECE34D0#32
  | 40 => 0xBF248DBB#32
  | 41 => 0xBF54DB31#32
  | 42 => 0xBF7426CB#32
  | 43 => 0xBF7FF067#32
  | 44 => 0xBF7746EA#32
  | 45 => 0xBF5ADB81#32
  | 46 => 0xBF2CF37B#32
  | 47 => 0xBEE273AA#32
  | 48 => 0xBE31D0D4#32
  | 49 => 0x3DDEF599#32
  | 50 => 0x3EC3EF15#32
  | 51 => 0x3F203C85#32
  | 52 => 0x3F51B3F3#32
  | 53 => 0x3F726A03#32
  | 54 => 0x3F7FC1A0#32
  | 55 => 0x3F78A9E0#32
  | 56 => 0x3F5DB3D7#32
  | 57 => 0x3F310700#32
  | 58 => 0x3EEC6A50#32
  | 59 => 0x3E47C5C2#32
  | 60 => 0xBDB27EB6#32
  | 61 => 0xBEB9917B#32
  | 62 => 0xBF1BD7CA#32
  | 63 => 0xBF4E7327#32
  | 64 => 0xBF708FB2#32
  | 65 => 0xBF7F73AF#32
  | 66 => 0xBF79EE89#32
  | 67 => 0xBF60712A#32
  | 68 => 0xBF3504F3#32
  | 69 => 0xBEF64429#32
  | 70 => 0xBE5DA259#32
  | 71 => 0x3D85F213#32
  | 72 => 0x3EAF1D44#32
  | 73 => 0x3F176012#32
  | 74 => 0x3F4B1934#32
  | 75 => 0x3F6E9811#32
  | 76 => 0x3F7F069E#32
  | 77 => 0x3F7B14BE#32
  | 78 => 0x3F631324#32
  | 79 => 0x3F38ECD8#32
  | 80 => 0x3F000000#32
  | 81 => 0x3E7363EE#32
  | 82 => 0xBD32AA3E#32
  | 83 => 0xBEA493B7#32
  | 84 => 0xBF12D5E8#32
  | 85 => 0xBF47A682#32
  | 86 => 0xBF6C835E#32
  | 87 => 0xBF7E7A7A#32
  | 88 => 0xBF7C1C5C#32
  | 89 => 0xBF659974#32
  | 90 => 0xBF3CBE35#32
  | 91 => 0xBF04CE53#32
  | 92 => 0xBE8483EE#32
  | 93 => 0x3CB2B521#32
  | 94 => 0x3E99F61C#32
  | 95 => 0x3F0E39DA#32
  | 96 => 0x3F441B7D#32
  | 97 => 0x3F6A51DA#32
  | 98 => 0x3F7DCF55#32
  | 99 => 0x3F7D0543#32
  | 100 => 0x3F6803CA#32
  | 101 => 0x3F407893#32
  | 102 => 0x3F098C78#32
  | 103 => 0x3E8F45C0#32
  | 104 => 0x248D3132#32
  | 105 => 0xBE8F45C0#32
  | 106 => 0xBF098C78#32
  | 107 => 0xBF407893#32
  | 108 => 0xBF6803CA#32
  | 109 => 0xBF7D0543#32
  | 110 => 0xBF7DCF55#32
  | 111 => 0xBF6A51DA#32
  | 112 => 0xBF441B7D#32
  | 113 => 0xBF0E39DA#32
  | 114 => 0xBE99F61C#32
  | 115 => 0xBCB2B521#32
  | 116 => 0x3E8483EE#32
  | 117 => 0x3F04CE53#32
  | 118 => 0x3F3CBE35#32
  | 119 => 0x3F659974#32
  | 120 => 0x3F7C1C5C#32
  | 121 => 0x3F7E7A7A#32
  | 122 => 0x3F6C835E#32
  | 123 => 0x3F47A682#32
  | 124 => 0x3F12D5E8#32
  | 125 => 0x3EA493B7#32
  | 126 => 0x3D32AA3E#32
  | 127 => 0xBE7363EE#32
  | _ => 0#32

noncomputable abbrev lit0t0_30 (i : Nat) : BitVec 32 := match i % 128 with
  | 0 => 0xBF000000#32
  | 1 => 0xBF38ECD8#32
  | 2 => 0xBF631324#32
  | 3 => 0xBF7B14BE#32
  | 4 => 0xBF7F069E#32
  | 5 => 0xBF6E9811#32
  | 6 => 0xBF4B1934#32
  | 7 => 0xBF176012#32
  | 8 => 0xBEAF1D44#32
  | 9 => 0xBD85F213#32
  | 10 => 0x3E5DA259#32
  | 11 => 0x3EF64429#32
  | 12 => 0x3F3504F3#32
  | 13 => 0x3F60712A#32
  | 14 => 0x3F79EE89#32
  | 15 => 0x3F7F73AF#32
  | 16 => 0x3F708FB2#32
  | 17 => 0x3F4E7327#32
  | 18 => 0x3F1BD7CA#32
  | 19 => 0x3EB9917B#32
  | 20 => 0x3DB27EB6#32
  | 21 => 0xBE47C5C2#32
  | 22 => 0xBEEC6A50#32
  | 23 => 0xBF310700#32
  | 24 => 0xBF5DB3D7#32
  | 25 => 0xBF78A9E0#32
  | 26 => 0xBF7FC1A0#32
  | 27 => 0xBF726A03#32
  | 28 => 0xBF51B3F3#32
  | 29 => 0xBF203C85#32
  | 30 => 0xBEC3EF15#32
  | 31 => 0xBDDEF599#32
  | 32 => 0x3E31D0D4#32
  | 33 => 0x3EE273AA#32
  | 34 => 0x3F2CF37B#32
  | 35 => 0x3F5ADB81#32
  | 36 => 0x3F7746EA#32
  | 37 => 0x3F7FF067#32
  | 38 => 0x3F7426CB#32
  | 39 => 0x3F54DB31#32
  | 40 => 0x3F248DBB#32
  | 41 => 0x3ECE34D0#32
  | 42 => 0x3E05A8A8#32
  | 43 => 0xBE1BC63C#32
  | 44 => 0xBED8616C#32
  | 45 => 0xBF28CAE3#32
  | 46 => 0xBF57E880#32
  | 47 => 0xBF75C5D4#32
  | 48 => 0xBF800000#32
  | 49 => 0xBF75C5D4#32
  | 50 => 0xBF57E880#32
  | 51 => 0xBF28CAE3#32
  | 52 => 0xBED8616C#32
  | 53 => 0xBE1BC63C#32
  | 54 => 0x3E05A8A8#32
  | 55 => 0x3ECE34D0#32
  | 56 => 0x3F248DBB#32
  | 57 => 0x3F54DB31#32
  | 58 => 0x3F7426CB#32
  | 59 => 0x3F7FF067#32
  | 60 => 0x3F7746EA#32
  | 61 => 0x3F5ADB81#32
  | 62 => 0x3F2CF37B#32
  | 63 => 0x3EE273AA#32
  | 64 => 0x3E31D0D4#32
  | 65 => 0xBDDEF599#32
  | 66 => 0xBEC3EF15#32
  | 67 => 0xBF203C85#32
  | 68 => 0xBF51B3F3#32
  | 69 => 0xBF726A03#32
  | 70 => 0xBF7FC1A0#32
  | 71 => 0xBF78A9E0#32
  | 72 => 0xBF5DB3D7#32
  | 73 => 0xBF310700#32
  | 74 => 0xBEEC6A50#32
  | 75 => 0xBE47C5C2#32
  | 76 => 0x3DB27EB6#32
  | 77 => 0x3EB9917B#32
  | 78 => 0x3F1BD7CA#32
  | 79 => 0x3F4E7327#32
  | 80 => 0x3F708FB2#32
  | 81 => 0x3F7F73AF#32
  | 82 => 0x3F79EE89#32
  | 83 => 0x3F60712A#32
  | 84 => 0x3F3504F3#32
  | 85 => 0x3EF64429#32
  | 86 => 0x3E5DA259#32
  | 87 => 0xBD85F213#32
  | 88 => 0xBEAF1D44#32
  | 89 => 0xBF176012#32
  | 90 => 0xBF4B1934#32
  | 91 => 0xBF6E9811#32
  | 92 => 0xBF7F069E#32
  | 93 => 0xBF7B14BE#32
  | 94 => 0xBF631324#32
  | 95 => 0xBF38ECD8#32
  | 96 => 0xBF000000#32
  | 97 => 0xBE7363EE#32
  | 98 => 0x3D32AA3E#32
  | 99 => 0x3EA493B7#32
  | 100 => 0x3F12D5E8#32
  | 101 => 0x3F47A682#32
  | 102 => 0x3F6C835E#32
  | 103 => 0x3F7E7A7A#32
  | 104 => 0x3F7C1C5C#32
  | 105 => 0x3F659974#32
  | 106 => 0x3F3CBE35#32
  | 107 => 0x3F04CE53#32
  | 108 => 0x3E8483EE#32
  | 109 => 0xBCB2B521#32
  | 110 => 0xBE99F61C#32
  | 111 => 0xBF0E39DA#32
  | 112 => 0xBF441B7D#32
  | 113 => 0xBF6A51DA#32
  | 114 => 0xBF7DCF55#32
  | 115 => 0xBF7D0543#32
  | 116 => 0xBF6803CA#32
  | 117 => 0xBF407893#32
  | 118 => 0xBF098C78#32
  | 119 => 0xBE8F45C0#32
  | 120 => 0xA553C9CA#32
  | 121 => 0x3E8F45C0#32
  | 122 => 0x3F098C78#32
  | 123 => 0x3F407893#32
  | 124 => 0x3F6803CA#32
  | 125 => 0x3F7D0543#32
  | 126 => 0x3F7DCF55#32
  | 127 => 0x3F6A51DA#32
  | _ => 0#32

noncomputable abbrev lit0t0_31 (i : Nat) : BitVec 32 := match i % 128 with
  | 0 => 0x3F441B7D#32
  | 1 => 0x3F0E39DA#32
  | 2 => 0x3E99F61C#32
  | 3 => 0x3CB2B521#32
  | 4 => 0xBE8483EE#32
  | 5 => 0xBF04CE53#32
  | 6 => 0xBF3CBE35#32
  | 7 => 0xBF659974#32
  | 8 => 0xBF7C1C5C#32
  | 9 => 0xBF7E7A7A#32
  | 10 => 0xBF6C835E#32
  | 11 => 0xBF47A682#32
  | 12 => 0xBF12D5E8#32
  | 13 => 0xBEA493B7#32
  | 14 => 0xBD32AA3E#32
  | 15 => 0x3E7363EE#32
  | 16 => 0x3F000000#32
  | 17 => 0x3F38ECD8#32
  | 18 => 0x3F631324#32
  | 19 => 0x3F7B14BE#32
  | 20 => 0x3F7F069E#32
  | 21 => 0x3F6E9811#32
  | 22 => 0x3F4B1934#32
  | 23 => 0x3F176012#32
  | 24 => 0x3EAF1D44#32
  | 25 => 0x3D85F213#32
  | 26 => 0xBE5DA259#32
  | 27 => 0xBEF64429#32
  | 28 => 0xBF3504F3#32
  | 29 => 0xBF60712A#32
  | 30 => 0xBF79EE89#32
  | 31 => 0xBF7F73AF#32
  | 32 => 0xBF708FB2#32
  | 33 => 0xBF4E7327#32
  | 34 => 0xBF1BD7CA#32
  | 35 => 0xBEB9917B#32
  | 36 => 0xBDB27EB6#32
  | 37 => 0x3E47C5C2#32
  | 38 => 0x3EEC6A50#32
  | 39 => 0x3F310700#32
  | 40 => 0x3F5DB3D7#32
  | 41 => 0x3F78A9E0#32
  | 42 => 0x3F7FC1A0#32
  | 43 => 0x3F726A03#32
  | 44 => 0x3F51B3F3#32
  | 45 => 0x3F203C85#32
  | 46 => 0x3EC3EF15#32
  | 47 => 0x3DDEF599#32
  | 48 => 0xBE31D0D4#32
  | 49 => 0xBEE273AA#32
  | 50 => 0xBF2CF37B#32
  | 51 => 0xBF5ADB81#32
  | 52 => 0xBF7746EA#32
  | 53 => 0xBF7FF067#32
  | 54 => 0xBF7426CB#32
  | 55 => 0xBF54DB31#32
  | 56 => 0xBF248DBB#32
  | 57 => 0xBECE34D0#32
  | 58 => 0xBE05A8A8#32
  | 59 => 0x3E1BC63C#32
  | 60 => 0x3ED8616C#32
  | 61 => 0x3F28CAE3#32
  | 62 => 0x3F57E880#32
  | 63 => 0x3F75C5D4#32
  | 64 => 0x3F800000#32
  | 65 => 0x3F7426CB#32
  | 66 => 0x3F51B3F3#32
  | 67 => 0x3F1BD7CA#32
  | 68 => 0x3EAF1D44#32
  | 69 => 0x3D32AA3E#32
  | 70 => 0xBE8483EE#32
  | 71 => 0xBF098C78#32
  | 72 => 0xBF441B7D#32
  | 73 => 0xBF6C835E#32
  | 74 => 0xBF7F069E#32
  | 75 => 0xBF79EE89#32
  | 76 => 0xBF5DB3D7#32
  | 77 => 0xBF2CF37B#32
  | 78 => 0xBED8616C#32
  | 79 => 0xBE05A8A8#32
  | 80 => 0x3E31D0D4#32
  | 81 => 0x3EEC6A50#32
  | 82 => 0x3F3504F3#32
  | 83 => 0x3F631324#32
  | 84 => 0x3F7C1C5C#32
  | 85 => 0x3F7DCF55#32
  | 86 => 0x3F6803CA#32
  | 87 => 0x3F3CBE35#32
  | 88 => 0x3F000000#32
  | 89 => 0x3E5DA259#32
  | 90 => 0xBDB27EB6#32
  | 91 => 0xBEC3EF15#32
  | 92 => 0xBF248DBB#32
  | 93 => 0xBF57E880#32
  | 94 => 0xBF7746EA#32
  | 95 => 0xBF7FC1A0#32
  | 96 => 0xBF708FB2#32
  | 97 => 0xBF4B1934#32
  | 98 => 0xBF12D5E8#32
  | 99 => 0xBE99F61C#32
  | 100 => 0xA553C9CA#32
  | 101 => 0x3E99F61C#32
  | 102 => 0x3F12D5E8#32
  | 103 => 0x3F4B1934#32
  | 104 => 0x3F708FB2#32
  | 105 => 0x3F7FC1A0#32
  | 106 => 0x3F7746EA#32
  | 107 => 0x3F57E880#32
  | 108 => 0x3F248DBB#32
  | 109 => 0x3EC3EF15#32
  | 110 => 0x3DB27EB6#32
  | 111 => 0xBE5DA259#32
  | 112 => 0xBF000000#32
  | 113 => 0xBF3CBE35#32
  | 114 => 0xBF6803CA#32
  | 115 => 0xBF7DCF55#32
  | 116 => 0xBF7C1C5C#32
  | 117 => 0xBF631324#32
  | 118 => 0xBF3504F3#32
  | 119 => 0xBEEC6A50#32
  | 120 => 0xBE31D0D4#32
  | 121 => 0x3E05A8A8#32
  | 122 => 0x3ED8616C#32
  | 123 => 0x3F2CF37B#32
  | 124 => 0x3F5DB3D7#32
  | 125 => 0x3F79EE89#32
  | 126 => 0x3F7F069E#32
  | 127 => 0x3F6C835E#32
  | _ => 0#32

noncomputable abbrev lit0t0_32 (i : Nat) : BitVec 32 := match i % 128 with
  | 0 => 0x3F441B7D#32
  | 1 => 0x3F098C78#32
  | 2 => 0x3E8483EE#32
  | 3 => 0xBD32AA3E#32
  | 4 => 0xBEAF1D44#32
  | 5 => 0xBF1BD7CA#32
  | 6 => 0xBF51B3F3#32
  | 7 => 0xBF7426CB#32
  | 8 => 0xBF800000#32
  | 9 => 0xBF7426CB#32
  | 10 => 0xBF51B3F3#32
  | 11 => 0xBF1BD7CA#32
  | 12 => 0xBEAF1D44#32
  | 13 => 0xBD32AA3E#32
  | 14 => 0x3E8483EE#32
  | 15 => 0x3F098C78#32
  | 16 => 0x3F441B7D#32
  | 17 => 0x3F6C835E#32
  | 18 => 0x3F7F069E#32
  | 19 => 0x3F79EE89#32
  | 20 => 0x3F5DB3D7#32
  | 21 => 0x3F2CF37B#32
  | 22 => 0x3ED8616C#32
  | 23 => 0x3E05A8A8#32
  | 24 => 0xBE31D0D4#32
  | 25 => 0xBEEC6A50#32
  | 26 => 0xBF3504F3#32
  | 27 => 0xBF631324#32
  | 28 => 0xBF7C1C5C#32
  | 29 => 0xBF7DCF55#32
  | 30 => 0xBF6803CA#32
  | 31 => 0xBF3CBE35#32
  | 32 => 0xBF000000#32
  | 33 => 0xBE5DA259#32
  | 34 => 0x3DB27EB6#32
  | 35 => 0x3EC3EF15#32
  | 36 => 0x3F248DBB#32
  | 37 => 0x3F57E880#32
  | 38 => 0x3F7746EA#32
  | 39 => 0x3F7FC1A0#32
  | 40 => 0x3F708FB2#32
  | 41 => 0x3F4B1934#32
  | 42 => 0x3F12D5E8#32
  | 43 => 0x3E99F61C#32
  | 44 => 0x248D3132#32
  | 45 => 0xBE99F61C#32
  | 46 => 0xBF12D5E8#32
  | 47 => 0xBF4B1934#32
  | 48 => 0xBF708FB2#32
  | 49 => 0xBF7FC1A0#32
  | 50 => 0xBF7746EA#32
  | 51 => 0xBF57E880#32
  | 52 => 0xBF248DBB#32
  | 53 => 0xBEC3EF15#32
  | 54 => 0xBDB27EB6#32
  | 55 => 0x3E5DA259#32
  | 56 => 0x3F000000#32
  | 57 => 0x3F3CBE35#32
  | 58 => 0x3F6803CA#32
  | 59 => 0x3F7DCF55#32
  | 60 => 0x3F7C1C5C#32
  | 61 => 0x3F631324#32
  | 62 => 0x3F3504F3#32
  | 63 => 0x3EEC6A50#32
  | 64 => 0x3E31D0D4#32
  | 65 => 0xBE05A8A8#32
  | 66 => 0xBED8616C#32
  | 67 => 0xBF2CF37B#32
  | 68 => 0xBF5DB3D7#32
  | 69 => 0xBF79EE89#32
  | 70 => 0xBF7F069E#32
  | 71 => 0xBF6C835E#32
  | 72 => 0xBF441B7D#32
  | 73 => 0xBF098C78#32
  | 74 => 0xBE8483EE#32
  | 75 => 0x3D32AA3E#32
  | 76 => 0x3EAF1D44#32
  | 77 => 0x3F1BD7CA#32
  | 78 => 0x3F51B3F3#32
  | 79 => 0x3F7426CB#32
  | 80 => 0x3F800000#32
  | 81 => 0x3F7426CB#32
  | 82 => 0x3F51B3F3#32
  | 83 => 0x3F1BD7CA#32
  | 84 => 0x3EAF1D44#32
  | 85 => 0x3D32AA3E#32
  | 86 => 0xBE8483EE#32
  | 87 => 0xBF098C78#32
  | 88 => 0xBF441B7D#32
  | 89 => 0xBF6C835E#32
  | 90 => 0xBF7F069E#32
  | 91 => 0xBF79EE89#32
  | 92 => 0xBF5DB3D7#32
  | 93 => 0xBF2CF37B#32
  | 94 => 0xBED8616C#32
  | 95 => 0xBE05A8A8#32
  | 96 => 0x3E31D0D4#32
  | 97 => 0x3EEC6A50#32
  | 98 => 0x3F3504F3#32
  | 99 => 0x3F631324#32
  | 100 => 0x3F7C1C5C#32
  | 101 => 0x3F7DCF55#32
  | 102 => 0x3F6803CA#32
  | 103 => 0x3F3CBE35#32
  | 104 => 0x3F000000#32
  | 105 => 0x3E5DA259#32
  | 106 => 0xBDB27EB6#32
  | 107 => 0xBEC3EF15#32
  | 108 => 0xBF248DBB#32
  | 109 => 0xBF57E880#32
  | 110 => 0xBF7746EA#32
  | 111 => 0xBF7FC1A0#32
  | 112 => 0xBF708FB2#32
  | 113 => 0xBF4B1934#32
  | 114 => 0xBF12D5E8#32
  | 115 => 0xBE99F61C#32
  | 116 => 0xA553C9CA#32
  | 117 => 0x3E99F61C#32
  | 118 => 0x3F12D5E8#32
  | 119 => 0x3F4B1934#32
  | 120 => 0x3F708FB2#32
  | 121 => 0x3F7FC1A0#32
  | 122 => 0x3F7746EA#32
  | 123 => 0x3F57E880#32
  | 124 => 0x3F248DBB#32
  | 125 => 0x3EC3EF15#32
  | 126 => 0x3DB27EB6#32
  | 127 => 0xBE5DA259#32
  | _ => 0#32

noncomputable abbrev lit0t0_33 (i : Nat) : BitVec 32 := match i % 128 with
  | 0 => 0xBF000000#32
  | 1 => 0xBF3CBE35#32
  | 2 => 0xBF6803CA#32
  | 3 => 0xBF7DCF55#32
  | 4 => 0xBF7C1C5C#32
  | 5 => 0xBF631324#32
  | 6 => 0xBF3504F3#32
  | 7 => 0xBEEC6A50#32
  | 8 => 0xBE31D0D4#32
  | 9 => 0x3E05A8A8#32
  | 10 => 0x3ED8616C#32
  | 11 => 0x3F2CF37B#32
  | 12 => 0x3F5DB3D7#32
  | 13 => 0x3F79EE89#32
  | 14 => 0x3F7F069E#32
  | 15 => 0x3F6C835E#32
  | 16 => 0x3F441B7D#32
  | 17 => 0x3F098C78#32
  | 18 => 0x3E8483EE#32
  | 19 => 0xBD32AA3E#32
  | 20 => 0xBEAF1D44#32
  | 21 => 0xBF1BD7CA#32
  | 22 => 0xBF51B3F3#32
  | 23 => 0xBF7426CB#32
  | 24 => 0xBF800000#32
  | 25 => 0xBF7426CB#32
  | 26 => 0xBF51B3F3#32
  | 27 => 0xBF1BD7CA#32
  | 28 => 0xBEAF1D44#32
  | 29 => 0xBD32AA3E#32
  | 30 => 0x3E8483EE#32
  | 31 => 0x3F098C78#32
  | 32 => 0x3F441B7D#32
  | 33 => 0x3F6C835E#32
  | 34 => 0x3F7F069E#32
  | 35 => 0x3F79EE89#32
  | 36 => 0x3F5DB3D7#32
  | 37 => 0x3F2CF37B#32
  | 38 => 0x3ED8616C#32
  | 39 => 0x3E05A8A8#32
  | 40 => 0xBE31D0D4#32
  | 41 => 0xBEEC6A50#32
  | 42 => 0xBF3504F3#32
  | 43 => 0xBF631324#32
  | 44 => 0xBF7C1C5C#32
  | 45 => 0xBF7DCF55#32
  | 46 => 0xBF6803CA#32
  | 47 => 0xBF3CBE35#32
  | 48 => 0xBF000000#32
  | 49 => 0xBE5DA259#32
  | 50 => 0x3DB27EB6#32
  | 51 => 0x3EC3EF15#32
  | 52 => 0x3F248DBB#32
  | 53 => 0x3F57E880#32
  | 54 => 0x3F7746EA#32
  | 55 => 0x3F7FC1A0#32
  | 56 => 0x3F708FB2#32
  | 57 => 0x3F4B1934#32
  | 58 => 0x3F12D5E8#32
  | 59 => 0x3E99F61C#32
  | 60 => 0x248D3132#32
  | 61 => 0xBE99F61C#32
  | 62 => 0xBF12D5E8#32
  | 63 => 0xBF4B1934#32
  | 64 => 0xBF708FB2#32
  | 65 => 0xBF7FC1A0#32
  | 66 => 0xBF7746EA#32
  | 67 => 0xBF57E880#32
  | 68 => 0xBF248DBB#32
  | 69 => 0xBEC3EF15#32
  | 70 => 0xBDB27EB6#32
  | 71 => 0x3E5DA259#32
  | 72 => 0x3F000000#32
  | 73 => 0x3F3CBE35#32
  | 74 => 0x3F6803CA#32
  | 75 => 0x3F7DCF55#32
  | 76 => 0x3F7C1C5C#32
  | 77 => 0x3F631324#32
  | 78 => 0x3F3504F3#32
  | 79 => 0x3EEC6A50#32
  | 80 => 0x3E31D0D4#32
  | 81 => 0xBE05A8A8#32
  | 82 => 0xBED8616C#32
  | 83 => 0xBF2CF37B#32
  | 84 => 0xBF5DB3D7#32
  | 85 => 0xBF79EE89#32
  | 86 => 0xBF7F069E#32
  | 87 => 0xBF6C835E#32
  | 88 => 0xBF441B7D#32
  | 89 => 0xBF098C78#32
  | 90 => 0xBE8483EE#32
  | 91 => 0x3D32AA3E#32
  | 92 => 0x3EAF1D44#32
  | 93 => 0x3F1BD7CA#32
  | 94 => 0x3F51B3F3#32
  | 95 => 0x3F7426CB#32
  | 96 => 0x3F800000#32
  | 97 => 0x3F726A03#32
  | 98 => 0x3F4B1934#32
  | 99 => 0x3F0E39DA#32
  | 100 => 0x3E8483EE#32
  | 101 => 0xBD85F213#32
  | 102 => 0xBEC3EF15#32
  | 103 => 0xBF28CAE3#32
  | 104 => 0xBF5DB3D7#32
  | 105 => 0xBF7B14BE#32
  | 106 => 0xBF7DCF55#32
  | 107 => 0xBF659974#32
  | 108 => 0xBF3504F3#32
  | 109 => 0xBEE273AA#32
  | 110 => 0xBE05A8A8#32
  | 111 => 0x3E47C5C2#32
  | 112 => 0x3F000000#32
  | 113 => 0x3F407893#32
  | 114 => 0x3F6C835E#32
  | 115 => 0x3F7F73AF#32
  | 116 => 0x3F7746EA#32
  | 117 => 0x3F54DB31#32
  | 118 => 0x3F1BD7CA#32
  | 119 => 0x3EA493B7#32
  | 120 => 0x248D3132#32
  | 121 => 0xBEA493B7#32
  | 122 => 0xBF1BD7CA#32
  | 123 => 0xBF54DB31#32
  | 124 => 0xBF7746EA#32
  | 125 => 0xBF7F73AF#32
  | 126 => 0xBF6C835E#32
  | 127 => 0xBF407893#32
  | _ => 0#32

noncomputable abbrev lit0t0_34 (i : Nat) : BitVec 32 := match i % 128 with
  | 0 => 0xBF000000#32
  | 1 => 0xBE47C5C2#32
  | 2 => 0x3E05A8A8#32
  | 3 => 0x3EE273AA#32
  | 4 => 0x3F3504F3#32
  | 5 => 0x3F659974#32
  | 6 => 0x3F7DCF55#32
  | 7 => 0x3F7B14BE#32
  | 8 => 0x3F5DB3D7#32
  | 9 => 0x3F28CAE3#32
  | 10 => 0x3EC3EF15#32
  | 11 => 0x3D85F213#32
  | 12 => 0xBE8483EE#32
  | 13 => 0xBF0E39DA#32
  | 14 => 0xBF4B1934#32
  | 15 => 0xBF726A03#32
  | 16 => 0xBF800000#32
  | 17 => 0xBF726A03#32
  | 18 => 0xBF4B1934#32
  | 19 => 0xBF0E39DA#32
  | 20 => 0xBE8483EE#32
  | 21 => 0x3D85F213#32
  | 22 => 0x3EC3EF15#32
  | 23 => 0x3F28CAE3#32
  | 24 => 0x3F5DB3D7#32
  | 25 => 0x3F7B14BE#32
  | 26 => 0x3F7DCF55#32
  | 27 => 0x3F659974#32
  | 28 => 0x3F3504F3#32
  | 29 => 0x3EE273AA#32
  | 30 => 0x3E05A8A8#32
  | 31 => 0xBE47C5C2#32
  | 32 => 0xBF000000#32
  | 33 => 0xBF407893#32
  | 34 => 0xBF6C835E#32
  | 35 => 0xBF7F73AF#32
  | 36 => 0xBF7746EA#32
  | 37 => 0xBF54DB31#32
  | 38 => 0xBF1BD7CA#32
  | 39 => 0xBEA493B7#32
  | 40 => 0xA553C9CA#32
  | 41 => 0x3EA493B7#32
  | 42 => 0x3F1BD7CA#32
  | 43 => 0x3F54DB31#32
  | 44 => 0x3F7746EA#32
  | 45 => 0x3F7F73AF#32
  | 46 => 0x3F6C835E#32
  | 47 => 0x3F407893#32
  | 48 => 0x3F000000#32
  | 49 => 0x3E47C5C2#32
  | 50 => 0xBE05A8A8#32
  | 51 => 0xBEE273AA#32
  | 52 => 0xBF3504F3#32
  | 53 => 0xBF659974#32
  | 54 => 0xBF7DCF55#32
  | 55 => 0xBF7B14BE#32
  | 56 => 0xBF5DB3D7#32
  | 57 => 0xBF28CAE3#32
  | 58 => 0xBEC3EF15#32
  | 59 => 0xBD85F213#32
  | 60 => 0x3E8483EE#32
  | 61 => 0x3F0E39DA#32
  | 62 => 0x3F4B1934#32
  | 63 => 0x3F726A03#32
  | 64 => 0x3F800000#32
  | 65 => 0x3F726A03#32
  | 66 => 0x3F4B1934#32
  | 67 => 0x3F0E39DA#32
  | 68 => 0x3E8483EE#32
  | 69 => 0xBD85F213#32
  | 70 => 0xBEC3EF15#32
  | 71 => 0xBF28CAE3#32
  | 72 => 0xBF5DB3D7#32
  | 73 => 0xBF7B14BE#32
  | 74 => 0xBF7DCF55#32
  | 75 => 0xBF659974#32
  | 76 => 0xBF3504F3#32
  | 77 => 0xBEE273AA#32
  | 78 => 0xBE05A8A8#32
  | 79 => 0x3E47C5C2#32
  | 80 => 0x3F000000#32
  | 81 => 0x3F407893#32
  | 82 => 0x3F6C835E#32
  | 83 => 0x3F7F73AF#32
  | 84 => 0x3F7746EA#32
  | 85 => 0x3F54DB31#32
  | 86 => 0x3F1BD7CA#32
  | 87 => 0x3EA493B7#32
  | 88 => 0x248D3132#32
  | 89 => 0xBEA493B7#32
  | 90 => 0xBF1BD7CA#32
  | 91 => 0xBF54DB31#32
  | 92 => 0xBF7746EA#32
  | 93 => 0xBF7F73AF#32
  | 94 => 0xBF6C835E#32
  | 95 => 0xBF407893#32
  | 96 => 0xBF000000#32
  | 97 => 0xBE47C5C2#32
  | 98 => 0x3E05A8A8#32
  | 99 => 0x3EE273AA#32
  | 100 => 0x3F3504F3#32
  | 101 => 0x3F659974#32
  | 102 => 0x3F7DCF55#32
  | 103 => 0x3F7B14BE#32
  | 104 => 0x3F5DB3D7#32
  | 105 => 0x3F28CAE3#32
  | 106 => 0x3EC3EF15#32
  | 107 => 0x3D85F213#32
  | 108 => 0xBE8483EE#32
  | 109 => 0xBF0E39DA#32
  | 110 => 0xBF4B1934#32
  | 111 => 0xBF726A03#32
  | 112 => 0xBF800000#32
  | 113 => 0xBF726A03#32
  | 114 => 0xBF4B1934#32
  | 115 => 0xBF0E39DA#32
  | 116 => 0xBE8483EE#32
  | 117 => 0x3D85F213#32
  | 118 => 0x3EC3EF15#32
  | 119 => 0x3F28CAE3#32
  | 120 => 0x3F5DB3D7#32
  | 121 => 0x3F7B14BE#32
  | 122 => 0x3F7DCF55#32
  | 123 => 0x3F659974#32
  | 124 => 0x3F3504F3#32
  | 125 => 0x3EE273AA#32
  | 126 => 0x3E05A8A8#32
  | 127 => 0xBE47C5C2#32
  | _ => 0#32

noncomputable abbrev lit0t0_35 (i : Nat) : BitVec 32 := match i % 128 with
  | 0 => 0xBF000000#32
  | 1 => 0xBF407893#32
  | 2 => 0xBF6C835E#32
  | 3 => 0xBF7F73AF#32
  | 4 => 0xBF7746EA#32
  | 5 => 0xBF54DB31#32
  | 6 => 0xBF1BD7CA#32
  | 7 => 0xBEA493B7#32
  | 8 => 0xA553C9CA#32
  | 9 => 0x3EA493B7#32
  | 10 => 0x3F1BD7CA#32
  | 11 => 0x3F54DB31#32
  | 12 => 0x3F7746EA#32
  | 13 => 0x3F7F73AF#32
  | 14 => 0x3F6C835E#32
  | 15 => 0x3F407893#32
  | 16 => 0x3F000000#32
  | 17 => 0x3E47C5C2#32
  | 18 => 0xBE05A8A8#32
  | 19 => 0xBEE273AA#32
  | 20 => 0xBF3504F3#32
  | 21 => 0xBF659974#32
  | 22 => 0xBF7DCF55#32
  | 23 => 0xBF7B14BE#32
  | 24 => 0xBF5DB3D7#32
  | 25 => 0xBF28CAE3#32
  | 26 => 0xBEC3EF15#32
  | 27 => 0xBD85F213#32
  | 28 => 0x3E8483EE#32
  | 29 => 0x3F0E39DA#32
  | 30 => 0x3F4B1934#32
  | 31 => 0x3F726A03#32
  | 32 => 0x3F800000#32
  | 33 => 0x3F726A03#32
  | 34 => 0x3F4B1934#32
  | 35 => 0x3F0E39DA#32
  | 36 => 0x3E8483EE#32
  | 37 => 0xBD85F213#32
  | 38 => 0xBEC3EF15#32
  | 39 => 0xBF28CAE3#32
  | 40 => 0xBF5DB3D7#32
  | 41 => 0xBF7B14BE#32
  | 42 => 0xBF7DCF55#32
  | 43 => 0xBF659974#32
  | 44 => 0xBF3504F3#32
  | 45 => 0xBEE273AA#32
  | 46 => 0xBE05A8A8#32
  | 47 => 0x3E47C5C2#32
  | 48 => 0x3F000000#32
  | 49 => 0x3F407893#32
  | 50 => 0x3F6C835E#32
  | 51 => 0x3F7F73AF#32
  | 52 => 0x3F7746EA#32
  | 53 => 0x3F54DB31#32
  | 54 => 0x3F1BD7CA#32
  | 55 => 0x3EA493B7#32
  | 56 => 0x248D3132#32
  | 57 => 0xBEA493B7#32
  | 58 => 0xBF1BD7CA#32
  | 59 => 0xBF54DB31#32
  | 60 => 0xBF7746EA#32
  | 61 => 0xBF7F73AF#32
  | 62 => 0xBF6C835E#32
  | 63 => 0xBF407893#32
  | 64 => 0xBF000000#32
  | 65 => 0xBE47C5C2#32
  | 66 => 0x3E05A8A8#32
  | 67 => 0x3EE273AA#32
  | 68 => 0x3F3504F3#32
  | 69 => 0x3F659974#32
  | 70 => 0x3F7DCF55#32
  | 71 => 0x3F7B14BE#32
  | 72 => 0x3F5DB3D7#32
  | 73 => 0x3F28CAE3#32
  | 74 => 0x3EC3EF15#32
  | 75 => 0x3D85F213#32
  | 76 => 0xBE8483EE#32
  | 77 => 0xBF0E39DA#32
  | 78 => 0xBF4B1934#32
  | 79 => 0xBF726A03#32
  | 80 => 0xBF800000#32
  | 81 => 0xBF726A03#32
  | 82 => 0xBF4B1934#32
  | 83 => 0xBF0E39DA#32
  | 84 => 0xBE8483EE#32
  | 85 => 0x3D85F213#32
  | 86 => 0x3EC3EF15#32
  | 87 => 0x3F28CAE3#32
  | 88 => 0x3F5DB3D7#32
  | 89 => 0x3F7B14BE#32
  | 90 => 0x3F7DCF55#32
  | 91 => 0x3F659974#32
  | 92 => 0x3F3504F3#32
  | 93 => 0x3EE273AA#32
  | 94 => 0x3E05A8A8#32
  | 95 => 0xBE47C5C2#32
  | 96 => 0xBF000000#32
  | 97 => 0xBF407893#32
  | 98 => 0xBF6C835E#32
  | 99 => 0xBF7F73AF#32
  | 100 => 0xBF7746EA#32
  | 101 => 0xBF54DB31#32
  | 102 => 0xBF1BD7CA#32
  | 103 => 0xBEA493B7#32
  | 104 => 0xA553C9CA#32
  | 105 => 0x3EA493B7#32
  | 106 => 0x3F1BD7CA#32
  | 107 => 0x3F54DB31#32
  | 108 => 0x3F7746EA#32
  | 109 => 0x3F7F73AF#32
  | 110 => 0x3F6C835E#32
  | 111 => 0x3F407893#32
  | 112 => 0x3F000000#32
  | 113 => 0x3E47C5C2#32
  | 114 => 0xBE05A8A8#32
  | 115 => 0xBEE273AA#32
  | 116 => 0xBF3504F3#32
  | 117 => 0xBF659974#32
  | 118 => 0xBF7DCF55#32
  | 119 => 0xBF7B14BE#32
  | 120 => 0xBF5DB3D7#32
  | 121 => 0xBF28CAE3#32
  | 122 => 0xBEC3EF15#32
  | 123 => 0xBD85F213#32
  | 124 => 0x3E8483EE#32
  | 125 => 0x3F0E39DA#32
  | 126 => 0x3F4B1934#32
  | 127 => 0x3F726A03#32
  | _ => 0#32

noncomputable abbrev lit0t0_36 (i : Nat) : BitVec 32 := match i % 128 with
  | 0 => 0x3F800000#32
  | 1 => 0x3F708FB2#32
  | 2 => 0x3F441B7D#32
  | 3 => 0x3F000000#32
  | 4 => 0x3E31D0D4#32
  | 5 => 0xBE31D0D4#32
  | 6 => 0xBF000000#32
  | 7 => 0xBF441B7D#32
  | 8 => 0xBF708FB2#32
  | 9 => 0xBF800000#32
  | 10 => 0xBF708FB2#32
  | 11 => 0xBF441B7D#32
  | 12 => 0xBF000000#32
  | 13 => 0xBE31D0D4#32
  | 14 => 0x3E31D0D4#32
  | 15 => 0x3F000000#32
  | 16 => 0x3F441B7D#32
  | 17 => 0x3F708FB2#32
  | 18 => 0x3F800000#32
  | 19 => 0x3F708FB2#32
  | 20 => 0x3F441B7D#32
  | 21 => 0x3F000000#32
  | 22 => 0x3E31D0D4#32
  | 23 => 0xBE31D0D4#32
  | 24 => 0xBF000000#32
  | 25 => 0xBF441B7D#32
  | 26 => 0xBF708FB2#32
  | 27 => 0xBF800000#32
  | 28 => 0xBF708FB2#32
  | 29 => 0xBF441B7D#32
  | 30 => 0xBF000000#32
  | 31 => 0xBE31D0D4#32
  | 32 => 0x3E31D0D4#32
  | 33 => 0x3F000000#32
  | 34 => 0x3F441B7D#32
  | 35 => 0x3F708FB2#32
  | 36 => 0x3F800000#32
  | 37 => 0x3F708FB2#32
  | 38 => 0x3F441B7D#32
  | 39 => 0x3F000000#32
  | 40 => 0x3E31D0D4#32
  | 41 => 0xBE31D0D4#32
  | 42 => 0xBF000000#32
  | 43 => 0xBF441B7D#32
  | 44 => 0xBF708FB2#32
  | 45 => 0xBF800000#32
  | 46 => 0xBF708FB2#32
  | 47 => 0xBF441B7D#32
  | 48 => 0xBF000000#32
  | 49 => 0xBE31D0D4#32
  | 50 => 0x3E31D0D4#32
  | 51 => 0x3F000000#32
  | 52 => 0x3F441B7D#32
  | 53 => 0x3F708FB2#32
  | 54 => 0x3F800000#32
  | 55 => 0x3F708FB2#32
  | 56 => 0x3F441B7D#32
  | 57 => 0x3F000000#32
  | 58 => 0x3E31D0D4#32
  | 59 => 0xBE31D0D4#32
  | 60 => 0xBF000000#32
  | 61 => 0xBF441B7D#32
  | 62 => 0xBF708FB2#32
  | 63 => 0xBF800000#32
  | 64 => 0xBF708FB2#32
  | 65 => 0xBF441B7D#32
  | 66 => 0xBF000000#32
  | 67 => 0xBE31D0D4#32
  | 68 => 0x3E31D0D4#32
  | 69 => 0x3F000000#32
  | 70 => 0x3F441B7D#32
  | 71 => 0x3F708FB2#32
  | 72 => 0x3F800000#32
  | 73 => 0x3F708FB2#32
  | 74 => 0x3F441B7D#32
  | 75 => 0x3F000000#32
  | 76 => 0x3E31D0D4#32
  | 77 => 0xBE31D0D4#32
  | 78 => 0xBF000000#32
  | 79 => 0xBF441B7D#32
  | 80 => 0xBF708FB2#32
  | 81 => 0xBF800000#32
  | 82 => 0xBF708FB2#32
  | 83 => 0xBF441B7D#32
  | 84 => 0xBF000000#32
  | 85 => 0xBE31D0D4#32
  | 86 => 0x3E31D0D4#32
  | 87 => 0x3F000000#32
  | 88 => 0x3F441B7D#32
  | 89 => 0x3F708FB2#32
  | 90 => 0x3F800000#32
  | 91 => 0x3F708FB2#32
  | 92 => 0x3F441B7D#32
  | 93 => 0x3F000000#32
  | 94 => 0x3E31D0D4#32
  | 95 => 0xBE31D0D4#32
  | 96 => 0xBF000000#32
  | 97 => 0xBF441B7D#32
  | 98 => 0xBF708FB2#32
  | 99 => 0xBF800000#32
  | 100 => 0xBF708FB2#32
  | 101 => 0xBF441B7D#32
  | 102 => 0xBF000000#32
  | 103 => 0xBE31D0D4#32
  | 104 => 0x3E31D0D4#32
  | 105 => 0x3F000000#32
  | 106 => 0x3F441B7D#32
  | 107 => 0x3F708FB2#32
  | 108 => 0x3F800000#32
  | 109 => 0x3F708FB2#32
  | 110 => 0x3F441B7D#32
  | 111 => 0x3F000000#32
  | 112 => 0x3E31D0D4#32
  | 113 => 0xBE31D0D4#32
  | 114 => 0xBF000000#32
  | 115 => 0xBF441B7D#32
  | 116 => 0xBF708FB2#32
  | 117 => 0xBF800000#32
  | 118 => 0xBF708FB2#32
  | 119 => 0xBF441B7D#32
  | 120 => 0xBF000000#32
  | 121 => 0xBE31D0D4#32
  | 122 => 0x3E31D0D4#32
  | 123 => 0x3F000000#32
  | 124 => 0x3F441B7D#32
  | 125 => 0x3F708FB2#32
  | 126 => 0x3F800000#32
  | 127 => 0x3F708FB2#32
  | _ => 0#32

noncomputable abbrev lit0t0_37 (i : Nat) : BitVec 32 := match i % 128 with
  | 0 => 0x3F441B7D#32
  | 1 => 0x3F000000#32
  | 2 => 0x3E31D0D4#32
  | 3 => 0xBE31D0D4#32
  | 4 => 0xBF000000#32
  | 5 => 0xBF441B7D#32
  | 6 => 0xBF708FB2#32
  | 7 => 0xBF800000#32
  | 8 => 0xBF708FB2#32
  | 9 => 0xBF441B7D#32
  | 10 => 0xBF000000#32
  | 11 => 0xBE31D0D4#32
  | 12 => 0x3E31D0D4#32
  | 13 => 0x3F000000#32
  | 14 => 0x3F441B7D#32
  | 15 => 0x3F708FB2#32
  | 16 => 0x3F800000#32
  | 17 => 0x3F708FB2#32
  | 18 => 0x3F441B7D#32
  | 19 => 0x3F000000#32
  | 20 => 0x3E31D0D4#32
  | 21 => 0xBE31D0D4#32
  | 22 => 0xBF000000#32
  | 23 => 0xBF441B7D#32
  | 24 => 0xBF708FB2#32
  | 25 => 0xBF800000#32
  | 26 => 0xBF708FB2#32
  | 27 => 0xBF441B7D#32
  | 28 => 0xBF000000#32
  | 29 => 0xBE31D0D4#32
  | 30 => 0x3E31D0D4#32
  | 31 => 0x3F000000#32
  | 32 => 0x3F441B7D#32
  | 33 => 0x3F708FB2#32
  | 34 => 0x3F800000#32
  | 35 => 0x3F708FB2#32
  | 36 => 0x3F441B7D#32
  | 37 => 0x3F000000#32
  | 38 => 0x3E31D0D4#32
  | 39 => 0xBE31D0D4#32
  | 40 => 0xBF000000#32
  | 41 => 0xBF441B7D#32
  | 42 => 0xBF708FB2#32
  | 43 => 0xBF800000#32
  | 44 => 0xBF708FB2#32
  | 45 => 0xBF441B7D#32
  | 46 => 0xBF000000#32
  | 47 => 0xBE31D0D4#32
  | 48 => 0x3E31D0D4#32
  | 49 => 0x3F000000#32
  | 50 => 0x3F441B7D#32
  | 51 => 0x3F708FB2#32
  | 52 => 0x3F800000#32
  | 53 => 0x3F708FB2#32
  | 54 => 0x3F441B7D#32
  | 55 => 0x3F000000#32
  | 56 => 0x3E31D0D4#32
  | 57 => 0xBE31D0D4#32
  | 58 => 0xBF000000#32
  | 59 => 0xBF441B7D#32
  | 60 => 0xBF708FB2#32
  | 61 => 0xBF800000#32
  | 62 => 0xBF708FB2#32
  | 63 => 0xBF441B7D#32
  | 64 => 0xBF000000#32
  | 65 => 0xBE31D0D4#32
  | 66 => 0x3E31D0D4#32
  | 67 => 0x3F000000#32
  | 68 => 0x3F441B7D#32
  | 69 => 0x3F708FB2#32
  | 70 => 0x3F800000#32
  | 71 => 0x3F708FB2#32
  | 72 => 0x3F441B7D#32
  | 73 => 0x3F000000#32
  | 74 => 0x3E31D0D4#32
  | 75 => 0xBE31D0D4#32
  | 76 => 0xBF000000#32
  | 77 => 0xBF441B7D#32
  | 78 => 0xBF708FB2#32
  | 79 => 0xBF800000#32
  | 80 => 0xBF708FB2#32
  | 81 => 0xBF441B7D#32
  | 82 => 0xBF000000#32
  | 83 => 0xBE31D0D4#32
  | 84 => 0x3E31D0D4#32
  | 85 => 0x3F000000#32
  | 86 => 0x3F441B7D#32
  | 87 => 0x3F708FB2#32
  | 88 => 0x3F800000#32
  | 89 => 0x3F708FB2#32
  | 90 => 0x3F441B7D#32
  | 91 => 0x3F000000#32
  | 92 => 0x3E31D0D4#32
  | 93 => 0xBE31D0D4#32
  | 94 => 0xBF000000#32
  | 95 => 0xBF441B7D#32
  | 96 => 0xBF708FB2#32
  | 97 => 0xBF800000#32
  | 98 => 0xBF708FB2#32
  | 99 => 0xBF441B7D#32
  | 100 => 0xBF000000#32
  | 101 => 0xBE31D0D4#32
  | 102 => 0x3E31D0D4#32
  | 103 => 0x3F000000#32
  | 104 => 0x3F441B7D#32
  | 105 => 0x3F708FB2#32
  | 106 => 0x3F800000#32
  | 107 => 0x3F708FB2#32
  | 108 => 0x3F441B7D#32
  | 109 => 0x3F000000#32
  | 110 => 0x3E31D0D4#32
  | 111 => 0xBE31D0D4#32
  | 112 => 0xBF000000#32
  | 113 => 0xBF441B7D#32
  | 114 => 0xBF708FB2#32
  | 115 => 0xBF800000#32
  | 116 => 0xBF708FB2#32
  | 117 => 0xBF441B7D#32
  | 118 => 0xBF000000#32
  | 119 => 0xBE31D0D4#32
  | 120 => 0x3E31D0D4#32
  | 121 => 0x3F000000#32
  | 122 => 0x3F441B7D#32
  | 123 => 0x3F708FB2#32
  | 124 => 0x3F800000#32
  | 125 => 0x3F708FB2#32
  | 126 => 0x3F441B7D#32
  | 127 => 0x3F000000#32
  | _ => 0#32

noncomputable abbrev lit0t0_38 (i : Nat) : BitVec 32 := match i % 128 with
  | 0 => 0x3E31D0D4#32
  | 1 => 0xBE31D0D4#32
  | 2 => 0xBF000000#32
  | 3 => 0xBF441B7D#32
  | 4 => 0xBF708FB2#32
  | 5 => 0xBF800000#32
  | 6 => 0xBF708FB2#32
  | 7 => 0xBF441B7D#32
  | 8 => 0xBF000000#32
  | 9 => 0xBE31D0D4#32
  | 10 => 0x3E31D0D4#32
  | 11 => 0x3F000000#32
  | 12 => 0x3F441B7D#32
  | 13 => 0x3F708FB2#32
  | 14 => 0x3F800000#32
  | 15 => 0x3F708FB2#32
  | 16 => 0x3F441B7D#32
  | 17 => 0x3F000000#32
  | 18 => 0x3E31D0D4#32
  | 19 => 0xBE31D0D4#32
  | 20 => 0xBF000000#32
  | 21 => 0xBF441B7D#32
  | 22 => 0xBF708FB2#32
  | 23 => 0xBF800000#32
  | 24 => 0xBF708FB2#32
  | 25 => 0xBF441B7D#32
  | 26 => 0xBF000000#32
  | 27 => 0xBE31D0D4#32
  | 28 => 0x3E31D0D4#32
  | 29 => 0x3F000000#32
  | 30 => 0x3F441B7D#32
  | 31 => 0x3F708FB2#32
  | 32 => 0x3F800000#32
  | 33 => 0x3F6E9811#32
  | 34 => 0x3F3CBE35#32
  | 35 => 0x3EE273AA#32
  | 36 => 0x3DB27EB6#32
  | 37 => 0xBE8F45C0#32
  | 38 => 0xBF1BD7CA#32
  | 39 => 0xBF5ADB81#32
  | 40 => 0xBF7C1C5C#32
  | 41 => 0xBF7B14BE#32
  | 42 => 0xBF57E880#32
  | 43 => 0xBF176012#32
  | 44 => 0xBE8483EE#32
  | 45 => 0x3DDEF599#32
  | 46 => 0x3EEC6A50#32
  | 47 => 0x3F407893#32
  | 48 => 0x3F708FB2#32
  | 49 => 0x3F7FF067#32
  | 50 => 0x3F6C835E#32
  | 51 => 0x3F38ECD8#32
  | 52 => 0x3ED8616C#32
  | 53 => 0x3D85F213#32
  | 54 => 0xBE99F61C#32
  | 55 => 0xBF203C85#32
  | 56 => 0xBF5DB3D7#32
  | 57 => 0xBF7D0543#32
  | 58 => 0xBF79EE89#32
  | 59 => 0xBF54DB31#32
  | 60 => 0xBF12D5E8#32
  | 61 => 0xBE7363EE#32
  | 62 => 0x3E05A8A8#32
  | 63 => 0x3EF64429#32
  | 64 => 0x3F441B7D#32
  | 65 => 0x3F726A03#32
  | 66 => 0x3F7FC1A0#32
  | 67 => 0x3F6A51DA#32
  | 68 => 0x3F3504F3#32
  | 69 => 0x3ECE34D0#32
  | 70 => 0x3D32AA3E#32
  | 71 => 0xBEA493B7#32
  | 72 => 0xBF248DBB#32
  | 73 => 0xBF60712A#32
  | 74 => 0xBF7DCF55#32
  | 75 => 0xBF78A9E0#32
  | 76 => 0xBF51B3F3#32
  | 77 => 0xBF0E39DA#32
  | 78 => 0xBE5DA259#32
  | 79 => 0x3E1BC63C#32
  | 80 => 0x3F000000#32
  | 81 => 0x3F47A682#32
  | 82 => 0x3F7426CB#32
  | 83 => 0x3F7F73AF#32
  | 84 => 0x3F6803CA#32
  | 85 => 0x3F310700#32
  | 86 => 0x3EC3EF15#32
  | 87 => 0x3CB2B521#32
  | 88 => 0xBEAF1D44#32
  | 89 => 0xBF28CAE3#32
  | 90 => 0xBF631324#32
  | 91 => 0xBF7E7A7A#32
  | 92 => 0xBF7746EA#32
  | 93 => 0xBF4E7327#32
  | 94 => 0xBF098C78#32
  | 95 => 0xBE47C5C2#32
  | 96 => 0x3E31D0D4#32
  | 97 => 0x3F04CE53#32
  | 98 => 0x3F4B1934#32
  | 99 => 0x3F75C5D4#32
  | 100 => 0x3F7F069E#32
  | 101 => 0x3F659974#32
  | 102 => 0x3F2CF37B#32
  | 103 => 0x3EB9917B#32
  | 104 => 0x248D3132#32
  | 105 => 0xBEB9917B#32
  | 106 => 0xBF2CF37B#32
  | 107 => 0xBF659974#32
  | 108 => 0xBF7F069E#32
  | 109 => 0xBF75C5D4#32
  | 110 => 0xBF4B1934#32
  | 111 => 0xBF04CE53#32
  | 112 => 0xBE31D0D4#32
  | 113 => 0x3E47C5C2#32
  | 114 => 0x3F098C78#32
  | 115 => 0x3F4E7327#32
  | 116 => 0x3F7746EA#32
  | 117 => 0x3F7E7A7A#32
  | 118 => 0x3F631324#32
  | 119 => 0x3F28CAE3#32
  | 120 => 0x3EAF1D44#32
  | 121 => 0xBCB2B521#32
  | 122 => 0xBEC3EF15#32
  | 123 => 0xBF310700#32
  | 124 => 0xBF6803CA#32
  | 125 => 0xBF7F73AF#32
  | 126 => 0xBF7426CB#32
  | 127 => 0xBF47A682#32
  | _ => 0#32

noncomputable abbrev lit0t0_39 (i : Nat) : BitVec 32 := match i % 128 with
  | 0 => 0xBF000000#32
  | 1 => 0xBE1BC63C#32
  | 2 => 0x3E5DA259#32
  | 3 => 0x3F0E39DA#32
  | 4 => 0x3F51B3F3#32
  | 5 => 0x3F78A9E0#32
  | 6 => 0x3F7DCF55#32
  | 7 => 0x3F60712A#32
  | 8 => 0x3F248DBB#32
  | 9 => 0x3EA493B7#32
  | 10 => 0xBD32AA3E#32
  | 11 => 0xBECE34D0#32
  | 12 => 0xBF3504F3#32
  | 13 => 0xBF6A51DA#32
  | 14 => 0xBF7FC1A0#32
  | 15 => 0xBF726A03#32
  | 16 => 0xBF441B7D#32
  | 17 => 0xBEF64429#32
  | 18 => 0xBE05A8A8#32
  | 19 => 0x3E7363EE#32
  | 20 => 0x3F12D5E8#32
  | 21 => 0x3F54DB31#32
  | 22 => 0x3F79EE89#32
  | 23 => 0x3F7D0543#32
  | 24 => 0x3F5DB3D7#32
  | 25 => 0x3F203C85#32
  | 26 => 0x3E99F61C#32
  | 27 => 0xBD85F213#32
  | 28 => 0xBED8616C#32
  | 29 => 0xBF38ECD8#32
  | 30 => 0xBF6C835E#32
  | 31 => 0xBF7FF067#32
  | 32 => 0xBF708FB2#32
  | 33 => 0xBF407893#32
  | 34 => 0xBEEC6A50#32
  | 35 => 0xBDDEF599#32
  | 36 => 0x3E8483EE#32
  | 37 => 0x3F176012#32
  | 38 => 0x3F57E880#32
  | 39 => 0x3F7B14BE#32
  | 40 => 0x3F7C1C5C#32
  | 41 => 0x3F5ADB81#32
  | 42 => 0x3F1BD7CA#32
  | 43 => 0x3E8F45C0#32
  | 44 => 0xBDB27EB6#32
  | 45 => 0xBEE273AA#32
  | 46 => 0xBF3CBE35#32
  | 47 => 0xBF6E9811#32
  | 48 => 0xBF800000#32
  | 49 => 0xBF6E9811#32
  | 50 => 0xBF3CBE35#32
  | 51 => 0xBEE273AA#32
  | 52 => 0xBDB27EB6#32
  | 53 => 0x3E8F45C0#32
  | 54 => 0x3F1BD7CA#32
  | 55 => 0x3F5ADB81#32
  | 56 => 0x3F7C1C5C#32
  | 57 => 0x3F7B14BE#32
  | 58 => 0x3F57E880#32
  | 59 => 0x3F176012#32
  | 60 => 0x3E8483EE#32
  | 61 => 0xBDDEF599#32
  | 62 => 0xBEEC6A50#32
  | 63 => 0xBF407893#32
  | 64 => 0xBF708FB2#32
  | 65 => 0xBF7FF067#32
  | 66 => 0xBF6C835E#32
  | 67 => 0xBF38ECD8#32
  | 68 => 0xBED8616C#32
  | 69 => 0xBD85F213#32
  | 70 => 0x3E99F61C#32
  | 71 => 0x3F203C85#32
  | 72 => 0x3F5DB3D7#32
  | 73 => 0x3F7D0543#32
  | 74 => 0x3F79EE89#32
  | 75 => 0x3F54DB31#32
  | 76 => 0x3F12D5E8#32
  | 77 => 0x3E7363EE#32
  | 78 => 0xBE05A8A8#32
  | 79 => 0xBEF64429#32
  | 80 => 0xBF441B7D#32
  | 81 => 0xBF726A03#32
  | 82 => 0xBF7FC1A0#32
  | 83 => 0xBF6A51DA#32
  | 84 => 0xBF3504F3#32
  | 85 => 0xBECE34D0#32
  | 86 => 0xBD32AA3E#32
  | 87 => 0x3EA493B7#32
  | 88 => 0x3F248DBB#32
  | 89 => 0x3F60712A#32
  | 90 => 0x3F7DCF55#32
  | 91 => 0x3F78A9E0#32
  | 92 => 0x3F51B3F3#32
  | 93 => 0x3F0E39DA#32
  | 94 => 0x3E5DA259#32
  | 95 => 0xBE1BC63C#32
  | 96 => 0xBF000000#32
  | 97 => 0xBF47A682#32
  | 98 => 0xBF7426CB#32
  | 99 => 0xBF7F73AF#32
  | 100 => 0xBF6803CA#32
  | 101 => 0xBF310700#32
  | 102 => 0xBEC3EF15#32
  | 103 => 0xBCB2B521#32
  | 104 => 0x3EAF1D44#32
  | 105 => 0x3F28CAE3#32
  | 106 => 0x3F631324#32
  | 107 => 0x3F7E7A7A#32
  | 108 => 0x3F7746EA#32
  | 109 => 0x3F4E7327#32
  | 110 => 0x3F098C78#32
  | 111 => 0x3E47C5C2#32
  | 112 => 0xBE31D0D4#32
  | 113 => 0xBF04CE53#32
  | 114 => 0xBF4B1934#32
  | 115 => 0xBF75C5D4#32
  | 116 => 0xBF7F069E#32
  | 117 => 0xBF659974#32
  | 118 => 0xBF2CF37B#32
  | 119 => 0xBEB9917B#32
  | 120 => 0xA553C9CA#32
  | 121 => 0x3EB9917B#32
  | 122 => 0x3F2CF37B#32
  | 123 => 0x3F659974#32
  | 124 => 0x3F7F069E#32
  | 125 => 0x3F75C5D4#32
  | 126 => 0x3F4B1934#32
  | 127 => 0x3F04CE53#32
  | _ => 0#32

noncomputable abbrev lit0t0_40 (i : Nat) : BitVec 32 := match i % 128 with
  | 0 => 0x3E31D0D4#32
  | 1 => 0xBE47C5C2#32
  | 2 => 0xBF098C78#32
  | 3 => 0xBF4E7327#32
  | 4 => 0xBF7746EA#32
  | 5 => 0xBF7E7A7A#32
  | 6 => 0xBF631324#32
  | 7 => 0xBF28CAE3#32
  | 8 => 0xBEAF1D44#32
  | 9 => 0x3CB2B521#32
  | 10 => 0x3EC3EF15#32
  | 11 => 0x3F310700#32
  | 12 => 0x3F6803CA#32
  | 13 => 0x3F7F73AF#32
  | 14 => 0x3F7426CB#32
  | 15 => 0x3F47A682#32
  | 16 => 0x3F000000#32
  | 17 => 0x3E1BC63C#32
  | 18 => 0xBE5DA259#32
  | 19 => 0xBF0E39DA#32
  | 20 => 0xBF51B3F3#32
  | 21 => 0xBF78A9E0#32
  | 22 => 0xBF7DCF55#32
  | 23 => 0xBF60712A#32
  | 24 => 0xBF248DBB#32
  | 25 => 0xBEA493B7#32
  | 26 => 0x3D32AA3E#32
  | 27 => 0x3ECE34D0#32
  | 28 => 0x3F3504F3#32
  | 29 => 0x3F6A51DA#32
  | 30 => 0x3F7FC1A0#32
  | 31 => 0x3F726A03#32
  | 32 => 0x3F441B7D#32
  | 33 => 0x3EF64429#32
  | 34 => 0x3E05A8A8#32
  | 35 => 0xBE7363EE#32
  | 36 => 0xBF12D5E8#32
  | 37 => 0xBF54DB31#32
  | 38 => 0xBF79EE89#32
  | 39 => 0xBF7D0543#32
  | 40 => 0xBF5DB3D7#32
  | 41 => 0xBF203C85#32
  | 42 => 0xBE99F61C#32
  | 43 => 0x3D85F213#32
  | 44 => 0x3ED8616C#32
  | 45 => 0x3F38ECD8#32
  | 46 => 0x3F6C835E#32
  | 47 => 0x3F7FF067#32
  | 48 => 0x3F708FB2#32
  | 49 => 0x3F407893#32
  | 50 => 0x3EEC6A50#32
  | 51 => 0x3DDEF599#32
  | 52 => 0xBE8483EE#32
  | 53 => 0xBF176012#32
  | 54 => 0xBF57E880#32
  | 55 => 0xBF7B14BE#32
  | 56 => 0xBF7C1C5C#32
  | 57 => 0xBF5ADB81#32
  | 58 => 0xBF1BD7CA#32
  | 59 => 0xBE8F45C0#32
  | 60 => 0x3DB27EB6#32
  | 61 => 0x3EE273AA#32
  | 62 => 0x3F3CBE35#32
  | 63 => 0x3F6E9811#32
  | 64 => 0x3F800000#32
  | 65 => 0x3F6C835E#32
  | 66 => 0x3F3504F3#32
  | 67 => 0x3EC3EF15#32
  | 68 => 0x248D3132#32
  | 69 => 0xBEC3EF15#32
  | 70 => 0xBF3504F3#32
  | 71 => 0xBF6C835E#32
  | 72 => 0xBF800000#32
  | 73 => 0xBF6C835E#32
  | 74 => 0xBF3504F3#32
  | 75 => 0xBEC3EF15#32
  | 76 => 0xA553C9CA#32
  | 77 => 0x3EC3EF15#32
  | 78 => 0x3F3504F3#32
  | 79 => 0x3F6C835E#32
  | 80 => 0x3F800000#32
  | 81 => 0x3F6C835E#32
  | 82 => 0x3F3504F3#32
  | 83 => 0x3EC3EF15#32
  | 84 => 0x248D3132#32
  | 85 => 0xBEC3EF15#32
  | 86 => 0xBF3504F3#32
  | 87 => 0xBF6C835E#32
  | 88 => 0xBF800000#32
  | 89 => 0xBF6C835E#32
  | 90 => 0xBF3504F3#32
  | 91 => 0xBEC3EF15#32
  | 92 => 0xA553C9CA#32
  | 93 => 0x3EC3EF15#32
  | 94 => 0x3F3504F3#32
  | 95 => 0x3F6C835E#32
  | 96 => 0x3F800000#32
  | 97 => 0x3F6C835E#32
  | 98 => 0x3F3504F3#32
  | 99 => 0x3EC3EF15#32
  | 100 => 0x248D3132#32
  | 101 => 0xBEC3EF15#32
  | 102 => 0xBF3504F3#32
  | 103 => 0xBF6C835E#32
  | 104 => 0xBF800000#32
  | 105 => 0xBF6C835E#32
  | 106 => 0xBF3504F3#32
  | 107 => 0xBEC3EF15#32
  | 108 => 0xA553C9CA#32
  | 109 => 0x3EC3EF15#32
  | 110 => 0x3F3504F3#32
  | 111 => 0x3F6C835E#32
  | 112 => 0x3F800000#32
  | 113 => 0x3F6C835E#32
  | 114 => 0x3F3504F3#32
  | 115 => 0x3EC3EF15#32
  | 116 => 0x248D3132#32
  | 117 => 0xBEC3EF15#32
  | 118 => 0xBF3504F3#32
  | 119 => 0xBF6C835E#32
  | 120 => 0xBF800000#32
  | 121 => 0xBF6C835E#32
  | 122 => 0xBF3504F3#32
  | 123 => 0xBEC3EF15#32
  | 124 => 0xA553C9CA#32
  | 125 => 0x3EC3EF15#32
  | 126 => 0x3F3504F3#32
  | 127 => 0x3F6C835E#32
  | _ => 0#32

noncomputable abbrev lit0t0_41 (i : Nat) : BitVec 32 := match i % 128 with
  | 0 => 0x3F800000#32
  | 1 => 0x3F6C835E#32
  | 2 => 0x3F3504F3#32
  | 3 => 0x3EC3EF15#32
  | 4 => 0x248D3132#32
  | 5 => 0xBEC3EF15#32
  | 6 => 0xBF3504F3#32
  | 7 => 0xBF6C835E#32
  | 8 => 0xBF800000#32
  | 9 => 0xBF6C835E#32
  | 10 => 0xBF3504F3#32
  | 11 => 0xBEC3EF15#32
  | 12 => 0xA553C9CA#32
  | 13 => 0x3EC3EF15#32
  | 14 => 0x3F3504F3#32
  | 15 => 0x3F6C835E#32
  | 16 => 0x3F800000#32
  | 17 => 0x3F6C835E#32
  | 18 => 0x3F3504F3#32
  | 19 => 0x3EC3EF15#32
  | 20 => 0x248D3132#32
  | 21 => 0xBEC3EF15#32
  | 22 => 0xBF3504F3#32
  | 23 => 0xBF6C835E#32
  | 24 => 0xBF800000#32
  | 25 => 0xBF6C835E#32
  | 26 => 0xBF3504F3#32
  | 27 => 0xBEC3EF15#32
  | 28 => 0xA553C9CA#32
  | 29 => 0x3EC3EF15#32
  | 30 => 0x3F3504F3#32
  | 31 => 0x3F6C835E#32
  | 32 => 0x3F800000#32
  | 33 => 0x3F6C835E#32
  | 34 => 0x3F3504F3#32
  | 35 => 0x3EC3EF15#32
  | 36 => 0x248D3132#32
  | 37 => 0xBEC3EF15#32
  | 38 => 0xBF3504F3#32
  | 39 => 0xBF6C835E#32
  | 40 => 0xBF800000#32
  | 41 => 0xBF6C835E#32
  | 42 => 0xBF3504F3#32
  | 43 => 0xBEC3EF15#32
  | 44 => 0xA553C9CA#32
  | 45 => 0x3EC3EF15#32
  | 46 => 0x3F3504F3#32
  | 47 => 0x3F6C835E#32
  | 48 => 0x3F800000#32
  | 49 => 0x3F6C835E#32
  | 50 => 0x3F3504F3#32
  | 51 => 0x3EC3EF15#32
  | 52 => 0x248D3132#32
  | 53 => 0xBEC3EF15#32
  | 54 => 0xBF3504F3#32
  | 55 => 0xBF6C835E#32
  | 56 => 0xBF800000#32
  | 57 => 0xBF6C835E#32
  | 58 => 0xBF3504F3#32
  | 59 => 0xBEC3EF15#32
  | 60 => 0xA553C9CA#32
  | 61 => 0x3EC3EF15#32
  | 62 => 0x3F3504F3#32
  | 63 => 0x3F6C835E#32
  | 64 => 0x3F800000#32
  | 65 => 0x3F6C835E#32
  | 66 => 0x3F3504F3#32
  | 67 => 0x3EC3EF15#32
  | 68 => 0x248D3132#32
  | 69 => 0xBEC3EF15#32
  | 70 => 0xBF3504F3#32
  | 71 => 0xBF6C835E#32
  | 72 => 0xBF800000#32
  | 73 => 0xBF6C835E#32
  | 74 => 0xBF3504F3#32
  | 75 => 0xBEC3EF15#32
  | 76 => 0xA553C9CA#32
  | 77 => 0x3EC3EF15#32
  | 78 => 0x3F3504F3#32
  | 79 => 0x3F6C835E#32
  | 80 => 0x3F800000#32
  | 81 => 0x3F6C835E#32
  | 82 => 0x3F3504F3#32
  | 83 => 0x3EC3EF15#32
  | 84 => 0x248D3132#32
  | 85 => 0xBEC3EF15#32
  | 86 => 0xBF3504F3#32
  | 87 => 0xBF6C835E#32
  | 88 => 0xBF800000#32
  | 89 => 0xBF6C835E#32
  | 90 => 0xBF3504F3#32
  | 91 => 0xBEC3EF15#32
  | 92 => 0xA553C9CA#32
  | 93 => 0x3EC3EF15#32
  | 94 => 0x3F3504F3#32
  | 95 => 0x3F6C835E#32
  | 96 => 0x3F800000#32
  | 97 => 0x3F6C835E#32
  | 98 => 0x3F3504F3#32
  | 99 => 0x3EC3EF15#32
  | 100 => 0x248D3132#32
  | 101 => 0xBEC3EF15#32
  | 102 => 0xBF3504F3#32
  | 103 => 0xBF6C835E#32
  | 104 => 0xBF800000#32
  | 105 => 0xBF6C835E#32
  | 106 => 0xBF3504F3#32
  | 107 => 0xBEC3EF15#32
  | 108 => 0xA553C9CA#32
  | 109 => 0x3EC3EF15#32
  | 110 => 0x3F3504F3#32
  | 111 => 0x3F6C835E#32
  | 112 => 0x3F800000#32
  | 113 => 0x3F6C835E#32
  | 114 => 0x3F3504F3#32
  | 115 => 0x3EC3EF15#32
  | 116 => 0x248D3132#32
  | 117 => 0xBEC3EF15#32
  | 118 => 0xBF3504F3#32
  | 119 => 0xBF6C835E#32
  | 120 => 0xBF800000#32
  | 121 => 0xBF6C835E#32
  | 122 => 0xBF3504F3#32
  | 123 => 0xBEC3EF15#32
  | 124 => 0xA553C9CA#32
  | 125 => 0x3EC3EF15#32
  | 126 => 0x3F3504F3#32
  | 127 => 0x3F6C835E#32
  | _ => 0#32

noncomputable abbrev lit0t0_42 (i : Nat) : BitVec 32 := match i % 128 with
  | 0 => 0x3F800000#32
  | 1 => 0x3F6C835E#32
  | 2 => 0x3F3504F3#32
  | 3 => 0x3EC3EF15#32
  | 4 => 0x248D3132#32
  | 5 => 0xBEC3EF15#32
  | 6 => 0xBF3504F3#32
  | 7 => 0xBF6C835E#32
  | 8 => 0xBF800000#32
  | 9 => 0xBF6C835E#32
  | 10 => 0xBF3504F3#32
  | 11 => 0xBEC3EF15#32
  | 12 => 0xA553C9CA#32
  | 13 => 0x3EC3EF15#32
  | 14 => 0x3F3504F3#32
  | 15 => 0x3F6C835E#32
  | 16 => 0x3F800000#32
  | 17 => 0x3F6C835E#32
  | 18 => 0x3F3504F3#32
  | 19 => 0x3EC3EF15#32
  | 20 => 0x248D3132#32
  | 21 => 0xBEC3EF15#32
  | 22 => 0xBF3504F3#32
  | 23 => 0xBF6C835E#32
  | 24 => 0xBF800000#32
  | 25 => 0xBF6C835E#32
  | 26 => 0xBF3504F3#32
  | 27 => 0xBEC3EF15#32
  | 28 => 0xA553C9CA#32
  | 29 => 0x3EC3EF15#32
  | 30 => 0x3F3504F3#32
  | 31 => 0x3F6C835E#32
  | 32 => 0x3F800000#32
  | 33 => 0x3F6C835E#32
  | 34 => 0x3F3504F3#32
  | 35 => 0x3EC3EF15#32
  | 36 => 0x248D3132#32
  | 37 => 0xBEC3EF15#32
  | 38 => 0xBF3504F3#32
  | 39 => 0xBF6C835E#32
  | 40 => 0xBF800000#32
  | 41 => 0xBF6C835E#32
  | 42 => 0xBF3504F3#32
  | 43 => 0xBEC3EF15#32
  | 44 => 0xA553C9CA#32
  | 45 => 0x3EC3EF15#32
  | 46 => 0x3F3504F3#32
  | 47 => 0x3F6C835E#32
  | 48 => 0x3F800000#32
  | 49 => 0x3F6C835E#32
  | 50 => 0x3F3504F3#32
  | 51 => 0x3EC3EF15#32
  | 52 => 0x248D3132#32
  | 53 => 0xBEC3EF15#32
  | 54 => 0xBF3504F3#32
  | 55 => 0xBF6C835E#32
  | 56 => 0xBF800000#32
  | 57 => 0xBF6C835E#32
  | 58 => 0xBF3504F3#32
  | 59 => 0xBEC3EF15#32
  | 60 => 0xA553C9CA#32
  | 61 => 0x3EC3EF15#32
  | 62 => 0x3F3504F3#32
  | 63 => 0x3F6C835E#32
  | 64 => 0x3F800000#32
  | 65 => 0x3F6C835E#32
  | 66 => 0x3F3504F3#32
  | 67 => 0x3EC3EF15#32
  | 68 => 0x248D3132#32
  | 69 => 0xBEC3EF15#32
  | 70 => 0xBF3504F3#32
  | 71 => 0xBF6C835E#32
  | 72 => 0xBF800000#32
  | 73 => 0xBF6C835E#32
  | 74 => 0xBF3504F3#32
  | 75 => 0xBEC3EF15#32
  | 76 => 0xA553C9CA#32
  | 77 => 0x3EC3EF15#32
  | 78 => 0x3F3504F3#32
  | 79 => 0x3F6C835E#32
  | 80 => 0x3F800000#32
  | 81 => 0x3F6C835E#32
  | 82 => 0x3F3504F3#32
  | 83 => 0x3EC3EF15#32
  | 84 => 0x248D3132#32
  | 85 => 0xBEC3EF15#32
  | 86 => 0xBF3504F3#32
  | 87 => 0xBF6C835E#32
  | 88 => 0xBF800000#32
  | 89 => 0xBF6C835E#32
  | 90 => 0xBF3504F3#32
  | 91 => 0xBEC3EF15#32
  | 92 => 0xA553C9CA#32
  | 93 => 0x3EC3EF15#32
  | 94 => 0x3F3504F3#32
  | 95 => 0x3F6C835E#32
  | 96 => 0x3F800000#32
  | 97 => 0x3F6A51DA#32
  | 98 => 0x3F2CF37B#32
  | 99 => 0x3EA493B7#32
  | 100 => 0xBDB27EB6#32
  | 101 => 0xBEF64429#32
  | 102 => 0xBF4B1934#32
  | 103 => 0xBF78A9E0#32
  | 104 => 0xBF7C1C5C#32
  | 105 => 0xBF54DB31#32
  | 106 => 0xBF098C78#32
  | 107 => 0xBE1BC63C#32
  | 108 => 0x3E8483EE#32
  | 109 => 0x3F203C85#32
  | 110 => 0x3F631324#32
  | 111 => 0x3F7F73AF#32
  | 112 => 0x3F708FB2#32
  | 113 => 0x3F38ECD8#32
  | 114 => 0x3EC3EF15#32
  | 115 => 0xBCB2B521#32
  | 116 => 0xBED8616C#32
  | 117 => 0xBF407893#32
  | 118 => 0xBF7426CB#32
  | 119 => 0xBF7E7A7A#32
  | 120 => 0xBF5DB3D7#32
  | 121 => 0xBF176012#32
  | 122 => 0xBE5DA259#32
  | 123 => 0x3E47C5C2#32
  | 124 => 0x3F12D5E8#32
  | 125 => 0x3F5ADB81#32
  | 126 => 0x3F7DCF55#32
  | 127 => 0x3F75C5D4#32
  | _ => 0#32

noncomputable abbrev lit0t0_43 (i : Nat) : BitVec 32 := match i % 128 with
  | 0 => 0x3F441B7D#32
  | 1 => 0x3EE273AA#32
  | 2 => 0x3D32AA3E#32
  | 3 => 0xBEB9917B#32
  | 4 => 0xBF3504F3#32
  | 5 => 0xBF6E9811#32
  | 6 => 0xBF7FC1A0#32
  | 7 => 0xBF659974#32
  | 8 => 0xBF248DBB#32
  | 9 => 0xBE8F45C0#32
  | 10 => 0x3E05A8A8#32
  | 11 => 0x3F04CE53#32
  | 12 => 0x3F51B3F3#32
  | 13 => 0x3F7B14BE#32
  | 14 => 0x3F79EE89#32
  | 15 => 0x3F4E7327#32
  | 16 => 0x3F000000#32
  | 17 => 0x3DDEF599#32
  | 18 => 0xBE99F61C#32
  | 19 => 0xBF28CAE3#32
  | 20 => 0xBF6803CA#32
  | 21 => 0xBF7FF067#32
  | 22 => 0xBF6C835E#32
  | 23 => 0xBF310700#32
  | 24 => 0xBEAF1D44#32
  | 25 => 0x3D85F213#32
  | 26 => 0x3EEC6A50#32
  | 27 => 0x3F47A682#32
  | 28 => 0x3F7746EA#32
  | 29 => 0x3F7D0543#32
  | 30 => 0x3F57E880#32
  | 31 => 0x3F0E39DA#32
  | 32 => 0x3E31D0D4#32
  | 33 => 0xBE7363EE#32
  | 34 => 0xBF1BD7CA#32
  | 35 => 0xBF60712A#32
  | 36 => 0xBF7F069E#32
  | 37 => 0xBF726A03#32
  | 38 => 0xBF3CBE35#32
  | 39 => 0xBECE34D0#32
  | 40 => 0xA553C9CA#32
  | 41 => 0x3ECE34D0#32
  | 42 => 0x3F3CBE35#32
  | 43 => 0x3F726A03#32
  | 44 => 0x3F7F069E#32
  | 45 => 0x3F60712A#32
  | 46 => 0x3F1BD7CA#32
  | 47 => 0x3E7363EE#32
  | 48 => 0xBE31D0D4#32
  | 49 => 0xBF0E39DA#32
  | 50 => 0xBF57E880#32
  | 51 => 0xBF7D0543#32
  | 52 => 0xBF7746EA#32
  | 53 => 0xBF47A682#32
  | 54 => 0xBEEC6A50#32
  | 55 => 0xBD85F213#32
  | 56 => 0x3EAF1D44#32
  | 57 => 0x3F310700#32
  | 58 => 0x3F6C835E#32
  | 59 => 0x3F7FF067#32
  | 60 => 0x3F6803CA#32
  | 61 => 0x3F28CAE3#32
  | 62 => 0x3E99F61C#32
  | 63 => 0xBDDEF599#32
  | 64 => 0xBF000000#32
  | 65 => 0xBF4E7327#32
  | 66 => 0xBF79EE89#32
  | 67 => 0xBF7B14BE#32
  | 68 => 0xBF51B3F3#32
  | 69 => 0xBF04CE53#32
  | 70 => 0xBE05A8A8#32
  | 71 => 0x3E8F45C0#32
  | 72 => 0x3F248DBB#32
  | 73 => 0x3F659974#32
  | 74 => 0x3F7FC1A0#32
  | 75 => 0x3F6E9811#32
  | 76 => 0x3F3504F3#32
  | 77 => 0x3EB9917B#32
  | 78 => 0xBD32AA3E#32
  | 79 => 0xBEE273AA#32
  | 80 => 0xBF441B7D#32
  | 81 => 0xBF75C5D4#32
  | 82 => 0xBF7DCF55#32
  | 83 => 0xBF5ADB81#32
  | 84 => 0xBF12D5E8#32
  | 85 => 0xBE47C5C2#32
  | 86 => 0x3E5DA259#32
  | 87 => 0x3F176012#32
  | 88 => 0x3F5DB3D7#32
  | 89 => 0x3F7E7A7A#32
  | 90 => 0x3F7426CB#32
  | 91 => 0x3F407893#32
  | 92 => 0x3ED8616C#32
  | 93 => 0x3CB2B521#32
  | 94 => 0xBEC3EF15#32
  | 95 => 0xBF38ECD8#32
  | 96 => 0xBF708FB2#32
  | 97 => 0xBF7F73AF#32
  | 98 => 0xBF631324#32
  | 99 => 0xBF203C85#32
  | 100 => 0xBE8483EE#32
  | 101 => 0x3E1BC63C#32
  | 102 => 0x3F098C78#32
  | 103 => 0x3F54DB31#32
  | 104 => 0x3F7C1C5C#32
  | 105 => 0x3F78A9E0#32
  | 106 => 0x3F4B1934#32
  | 107 => 0x3EF64429#32
  | 108 => 0x3DB27EB6#32
  | 109 => 0xBEA493B7#32
  | 110 => 0xBF2CF37B#32
  | 111 => 0xBF6A51DA#32
  | 112 => 0xBF800000#32
  | 113 => 0xBF6A51DA#32
  | 114 => 0xBF2CF37B#32
  | 115 => 0xBEA493B7#32
  | 116 => 0x3DB27EB6#32
  | 117 => 0x3EF64429#32
  | 118 => 0x3F4B1934#32
  | 119 => 0x3F78A9E0#32
  | 120 => 0x3F7C1C5C#32
  | 121 => 0x3F54DB31#32
  | 122 => 0x3F098C78#32
  | 123 => 0x3E1BC63C#32
  | 124 => 0xBE8483EE#32
  | 125 => 0xBF203C85#32
  | 126 => 0xBF631324#32
  | 127 => 0xBF7F73AF#32
  | _ => 0#32

noncomputable abbrev lit0t0_44 (i : Nat) : BitVec 32 := match i % 128 with
  | 0 => 0xBF708FB2#32
  | 1 => 0xBF38ECD8#32
  | 2 => 0xBEC3EF15#32
  | 3 => 0x3CB2B521#32
  | 4 => 0x3ED8616C#32
  | 5 => 0x3F407893#32
  | 6 => 0x3F7426CB#32
  | 7 => 0x3F7E7A7A#32
  | 8 => 0x3F5DB3D7#32
  | 9 => 0x3F176012#32
  | 10 => 0x3E5DA259#32
  | 11 => 0xBE47C5C2#32
  | 12 => 0xBF12D5E8#32
  | 13 => 0xBF5ADB81#32
  | 14 => 0xBF7DCF55#32
  | 15 => 0xBF75C5D4#32
  | 16 => 0xBF441B7D#32
  | 17 => 0xBEE273AA#32
  | 18 => 0xBD32AA3E#32
  | 19 => 0x3EB9917B#32
  | 20 => 0x3F3504F3#32
  | 21 => 0x3F6E9811#32
  | 22 => 0x3F7FC1A0#32
  | 23 => 0x3F659974#32
  | 24 => 0x3F248DBB#32
  | 25 => 0x3E8F45C0#32
  | 26 => 0xBE05A8A8#32
  | 27 => 0xBF04CE53#32
  | 28 => 0xBF51B3F3#32
  | 29 => 0xBF7B14BE#32
  | 30 => 0xBF79EE89#32
  | 31 => 0xBF4E7327#32
  | 32 => 0xBF000000#32
  | 33 => 0xBDDEF599#32
  | 34 => 0x3E99F61C#32
  | 35 => 0x3F28CAE3#32
  | 36 => 0x3F6803CA#32
  | 37 => 0x3F7FF067#32
  | 38 => 0x3F6C835E#32
  | 39 => 0x3F310700#32
  | 40 => 0x3EAF1D44#32
  | 41 => 0xBD85F213#32
  | 42 => 0xBEEC6A50#32
  | 43 => 0xBF47A682#32
  | 44 => 0xBF7746EA#32
  | 45 => 0xBF7D0543#32
  | 46 => 0xBF57E880#32
  | 47 => 0xBF0E39DA#32
  | 48 => 0xBE31D0D4#32
  | 49 => 0x3E7363EE#32
  | 50 => 0x3F1BD7CA#32
  | 51 => 0x3F60712A#32
  | 52 => 0x3F7F069E#32
  | 53 => 0x3F726A03#32
  | 54 => 0x3F3CBE35#32
  | 55 => 0x3ECE34D0#32
  | 56 => 0x248D3132#32
  | 57 => 0xBECE34D0#32
  | 58 => 0xBF3CBE35#32
  | 59 => 0xBF726A03#32
  | 60 => 0xBF7F069E#32
  | 61 => 0xBF60712A#32
  | 62 => 0xBF1BD7CA#32
  | 63 => 0xBE7363EE#32
  | 64 => 0x3E31D0D4#32
  | 65 => 0x3F0E39DA#32
  | 66 => 0x3F57E880#32
  | 67 => 0x3F7D0543#32
  | 68 => 0x3F7746EA#32
  | 69 => 0x3F47A682#32
  | 70 => 0x3EEC6A50#32
  | 71 => 0x3D85F213#32
  | 72 => 0xBEAF1D44#32
  | 73 => 0xBF310700#32
  | 74 => 0xBF6C835E#32
  | 75 => 0xBF7FF067#32
  | 76 => 0xBF6803CA#32
  | 77 => 0xBF28CAE3#32
  | 78 => 0xBE99F61C#32
  | 79 => 0x3DDEF599#32
  | 80 => 0x3F000000#32
  | 81 => 0x3F4E7327#32
  | 82 => 0x3F79EE89#32
  | 83 => 0x3F7B14BE#32
  | 84 => 0x3F51B3F3#32
  | 85 => 0x3F04CE53#32
  | 86 => 0x3E05A8A8#32
  | 87 => 0xBE8F45C0#32
  | 88 => 0xBF248DBB#32
  | 89 => 0xBF659974#32
  | 90 => 0xBF7FC1A0#32
  | 91 => 0xBF6E9811#32
  | 92 => 0xBF3504F3#32
  | 93 => 0xBEB9917B#32
  | 94 => 0x3D32AA3E#32
  | 95 => 0x3EE273AA#32
  | 96 => 0x3F441B7D#32
  | 97 => 0x3F75C5D4#32
  | 98 => 0x3F7DCF55#32
  | 99 => 0x3F5ADB81#32
  | 100 => 0x3F12D5E8#32
  | 101 => 0x3E47C5C2#32
  | 102 => 0xBE5DA259#32
  | 103 => 0xBF176012#32
  | 104 => 0xBF5DB3D7#32
  | 105 => 0xBF7E7A7A#32
  | 106 => 0xBF7426CB#32
  | 107 => 0xBF407893#32
  | 108 => 0xBED8616C#32
  | 109 => 0xBCB2B521#32
  | 110 => 0x3EC3EF15#32
  | 111 => 0x3F38ECD8#32
  | 112 => 0x3F708FB2#32
  | 113 => 0x3F7F73AF#32
  | 114 => 0x3F631324#32
  | 115 => 0x3F203C85#32
  | 116 => 0x3E8483EE#32
  | 117 => 0xBE1BC63C#32
  | 118 => 0xBF098C78#32
  | 119 => 0xBF54DB31#32
  | 120 => 0xBF7C1C5C#32
  | 121 => 0xBF78A9E0#32
  | 122 => 0xBF4B1934#32
  | 123 => 0xBEF64429#32
  | 124 => 0xBDB27EB6#32
  | 125 => 0x3EA493B7#32
  | 126 => 0x3F2CF37B#32
  | 127 => 0x3F6A51DA#32
  | _ => 0#32

noncomputable abbrev lit0t0_45 (i : Nat) : BitVec 32 := match i % 128 with
  | 0 => 0x3F800000#32
  | 1 => 0x3F6803CA#32
  | 2 => 0x3F248DBB#32
  | 3 => 0x3E8483EE#32
  | 4 => 0xBE31D0D4#32
  | 5 => 0xBF12D5E8#32
  | 6 => 0xBF5DB3D7#32
  | 7 => 0xBF7F069E#32
  | 8 => 0xBF708FB2#32
  | 9 => 0xBF3504F3#32
  | 10 => 0xBEAF1D44#32
  | 11 => 0x3DB27EB6#32
  | 12 => 0x3F000000#32
  | 13 => 0x3F51B3F3#32
  | 14 => 0x3F7C1C5C#32
  | 15 => 0x3F7746EA#32
  | 16 => 0x3F441B7D#32
  | 17 => 0x3ED8616C#32
  | 18 => 0x248D3132#32
  | 19 => 0xBED8616C#32
  | 20 => 0xBF441B7D#32
  | 21 => 0xBF7746EA#32
  | 22 => 0xBF7C1C5C#32
  | 23 => 0xBF51B3F3#32
  | 24 => 0xBF000000#32
  | 25 => 0xBDB27EB6#32
  | 26 => 0x3EAF1D44#32
  | 27 => 0x3F3504F3#32
  | 28 => 0x3F708FB2#32
  | 29 => 0x3F7F069E#32
  | 30 => 0x3F5DB3D7#32
  | 31 => 0x3F12D5E8#32
  | 32 => 0x3E31D0D4#32
  | 33 => 0xBE8483EE#32
  | 34 => 0xBF248DBB#32
  | 35 => 0xBF6803CA#32
  | 36 => 0xBF800000#32
  | 37 => 0xBF6803CA#32
  | 38 => 0xBF248DBB#32
  | 39 => 0xBE8483EE#32
  | 40 => 0x3E31D0D4#32
  | 41 => 0x3F12D5E8#32
  | 42 => 0x3F5DB3D7#32
  | 43 => 0x3F7F069E#32
  | 44 => 0x3F708FB2#32
  | 45 => 0x3F3504F3#32
  | 46 => 0x3EAF1D44#32
  | 47 => 0xBDB27EB6#32
  | 48 => 0xBF000000#32
  | 49 => 0xBF51B3F3#32
  | 50 => 0xBF7C1C5C#32
  | 51 => 0xBF7746EA#32
  | 52 => 0xBF441B7D#32
  | 53 => 0xBED8616C#32
  | 54 => 0xA553C9CA#32
  | 55 => 0x3ED8616C#32
  | 56 => 0x3F441B7D#32
  | 57 => 0x3F7746EA#32
  | 58 => 0x3F7C1C5C#32
  | 59 => 0x3F51B3F3#32
  | 60 => 0x3F000000#32
  | 61 => 0x3DB27EB6#32
  | 62 => 0xBEAF1D44#32
  | 63 => 0xBF3504F3#32
  | 64 => 0xBF708FB2#32
  | 65 => 0xBF7F069E#32
  | 66 => 0xBF5DB3D7#32
  | 67 => 0xBF12D5E8#32
  | 68 => 0xBE31D0D4#32
  | 69 => 0x3E8483EE#32
  | 70 => 0x3F248DBB#32
  | 71 => 0x3F6803CA#32
  | 72 => 0x3F800000#32
  | 73 => 0x3F6803CA#32
  | 74 => 0x3F248DBB#32
  | 75 => 0x3E8483EE#32
  | 76 => 0xBE31D0D4#32
  | 77 => 0xBF12D5E8#32
  | 78 => 0xBF5DB3D7#32
  | 79 => 0xBF7F069E#32
  | 80 => 0xBF708FB2#32
  | 81 => 0xBF3504F3#32
  | 82 => 0xBEAF1D44#32
  | 83 => 0x3DB27EB6#32
  | 84 => 0x3F000000#32
  | 85 => 0x3F51B3F3#32
  | 86 => 0x3F7C1C5C#32
  | 87 => 0x3F7746EA#32
  | 88 => 0x3F441B7D#32
  | 89 => 0x3ED8616C#32
  | 90 => 0x248D3132#32
  | 91 => 0xBED8616C#32
  | 92 => 0xBF441B7D#32
  | 93 => 0xBF7746EA#32
  | 94 => 0xBF7C1C5C#32
  | 95 => 0xBF51B3F3#32
  | 96 => 0xBF000000#32
  | 97 => 0xBDB27EB6#32
  | 98 => 0x3EAF1D44#32
  | 99 => 0x3F3504F3#32
  | 100 => 0x3F708FB2#32
  | 101 => 0x3F7F069E#32
  | 102 => 0x3F5DB3D7#32
  | 103 => 0x3F12D5E8#32
  | 104 => 0x3E31D0D4#32
  | 105 => 0xBE8483EE#32
  | 106 => 0xBF248DBB#32
  | 107 => 0xBF6803CA#32
  | 108 => 0xBF800000#32
  | 109 => 0xBF6803CA#32
  | 110 => 0xBF248DBB#32
  | 111 => 0xBE8483EE#32
  | 112 => 0x3E31D0D4#32
  | 113 => 0x3F12D5E8#32
  | 114 => 0x3F5DB3D7#32
  | 115 => 0x3F7F069E#32
  | 116 => 0x3F708FB2#32
  | 117 => 0x3F3504F3#32
  | 118 => 0x3EAF1D44#32
  | 119 => 0xBDB27EB6#32
  | 120 => 0xBF000000#32
  | 121 => 0xBF51B3F3#32
  | 122 => 0xBF7C1C5C#32
  | 123 => 0xBF7746EA#32
  | 124 => 0xBF441B7D#32
  | 125 => 0xBED8616C#32
  | 126 => 0xA553C9CA#32
  | 127 => 0x3ED8616C#32
  | _ => 0#32

noncomputable abbrev lit0t0_46 (i : Nat) : BitVec 32 := match i % 128 with
  | 0 => 0x3F441B7D#32
  | 1 => 0x3F7746EA#32
  | 2 => 0x3F7C1C5C#32
  | 3 => 0x3F51B3F3#32
  | 4 => 0x3F000000#32
  | 5 => 0x3DB27EB6#32
  | 6 => 0xBEAF1D44#32
  | 7 => 0xBF3504F3#32
  | 8 => 0xBF708FB2#32
  | 9 => 0xBF7F069E#32
  | 10 => 0xBF5DB3D7#32
  | 11 => 0xBF12D5E8#32
  | 12 => 0xBE31D0D4#32
  | 13 => 0x3E8483EE#32
  | 14 => 0x3F248DBB#32
  | 15 => 0x3F6803CA#32
  | 16 => 0x3F800000#32
  | 17 => 0x3F6803CA#32
  | 18 => 0x3F248DBB#32
  | 19 => 0x3E8483EE#32
  | 20 => 0xBE31D0D4#32
  | 21 => 0xBF12D5E8#32
  | 22 => 0xBF5DB3D7#32
  | 23 => 0xBF7F069E#32
  | 24 => 0xBF708FB2#32
  | 25 => 0xBF3504F3#32
  | 26 => 0xBEAF1D44#32
  | 27 => 0x3DB27EB6#32
  | 28 => 0x3F000000#32
  | 29 => 0x3F51B3F3#32
  | 30 => 0x3F7C1C5C#32
  | 31 => 0x3F7746EA#32
  | 32 => 0x3F441B7D#32
  | 33 => 0x3ED8616C#32
  | 34 => 0x248D3132#32
  | 35 => 0xBED8616C#32
  | 36 => 0xBF441B7D#32
  | 37 => 0xBF7746EA#32
  | 38 => 0xBF7C1C5C#32
  | 39 => 0xBF51B3F3#32
  | 40 => 0xBF000000#32
  | 41 => 0xBDB27EB6#32
  | 42 => 0x3EAF1D44#32
  | 43 => 0x3F3504F3#32
  | 44 => 0x3F708FB2#32
  | 45 => 0x3F7F069E#32
  | 46 => 0x3F5DB3D7#32
  | 47 => 0x3F12D5E8#32
  | 48 => 0x3E31D0D4#32
  | 49 => 0xBE8483EE#32
  | 50 => 0xBF248DBB#32
  | 51 => 0xBF6803CA#32
  | 52 => 0xBF800000#32
  | 53 => 0xBF6803CA#32
  | 54 => 0xBF248DBB#32
  | 55 => 0xBE8483EE#32
  | 56 => 0x3E31D0D4#32
  | 57 => 0x3F12D5E8#32
  | 58 => 0x3F5DB3D7#32
  | 59 => 0x3F7F069E#32
  | 60 => 0x3F708FB2#32
  | 61 => 0x3F3504F3#32
  | 62 => 0x3EAF1D44#32
  | 63 => 0xBDB27EB6#32
  | 64 => 0xBF000000#32
  | 65 => 0xBF51B3F3#32
  | 66 => 0xBF7C1C5C#32
  | 67 => 0xBF7746EA#32
  | 68 => 0xBF441B7D#32
  | 69 => 0xBED8616C#32
  | 70 => 0xA553C9CA#32
  | 71 => 0x3ED8616C#32
  | 72 => 0x3F441B7D#32
  | 73 => 0x3F7746EA#32
  | 74 => 0x3F7C1C5C#32
  | 75 => 0x3F51B3F3#32
  | 76 => 0x3F000000#32
  | 77 => 0x3DB27EB6#32
  | 78 => 0xBEAF1D44#32
  | 79 => 0xBF3504F3#32
  | 80 => 0xBF708FB2#32
  | 81 => 0xBF7F069E#32
  | 82 => 0xBF5DB3D7#32
  | 83 => 0xBF12D5E8#32
  | 84 => 0xBE31D0D4#32
  | 85 => 0x3E8483EE#32
  | 86 => 0x3F248DBB#32
  | 87 => 0x3F6803CA#32
  | 88 => 0x3F800000#32
  | 89 => 0x3F6803CA#32
  | 90 => 0x3F248DBB#32
  | 91 => 0x3E8483EE#32
  | 92 => 0xBE31D0D4#32
  | 93 => 0xBF12D5E8#32
  | 94 => 0xBF5DB3D7#32
  | 95 => 0xBF7F069E#32
  | 96 => 0xBF708FB2#32
  | 97 => 0xBF3504F3#32
  | 98 => 0xBEAF1D44#32
  | 99 => 0x3DB27EB6#32
  | 100 => 0x3F000000#32
  | 101 => 0x3F51B3F3#32
  | 102 => 0x3F7C1C5C#32
  | 103 => 0x3F7746EA#32
  | 104 => 0x3F441B7D#32
  | 105 => 0x3ED8616C#32
  | 106 => 0x248D3132#32
  | 107 => 0xBED8616C#32
  | 108 => 0xBF441B7D#32
  | 109 => 0xBF7746EA#32
  | 110 => 0xBF7C1C5C#32
  | 111 => 0xBF51B3F3#32
  | 112 => 0xBF000000#32
  | 113 => 0xBDB27EB6#32
  | 114 => 0x3EAF1D44#32
  | 115 => 0x3F3504F3#32
  | 116 => 0x3F708FB2#32
  | 117 => 0x3F7F069E#32
  | 118 => 0x3F5DB3D7#32
  | 119 => 0x3F12D5E8#32
  | 120 => 0x3E31D0D4#32
  | 121 => 0xBE8483EE#32
  | 122 => 0xBF248DBB#32
  | 123 => 0xBF6803CA#32
  | 124 => 0xBF800000#32
  | 125 => 0xBF6803CA#32
  | 126 => 0xBF248DBB#32
  | 127 => 0xBE8483EE#32
  | _ => 0#32

noncomputable abbrev lit0t0_47 (i : Nat) : BitVec 32 := match i % 128 with
  | 0 => 0x3E31D0D4#32
  | 1 => 0x3F12D5E8#32
  | 2 => 0x3F5DB3D7#32
  | 3 => 0x3F7F069E#32
  | 4 => 0x3F708FB2#32
  | 5 => 0x3F3504F3#32
  | 6 => 0x3EAF1D44#32
  | 7 => 0xBDB27EB6#32
  | 8 => 0xBF000000#32
  | 9 => 0xBF51B3F3#32
  | 10 => 0xBF7C1C5C#32
  | 11 => 0xBF7746EA#32
  | 12 => 0xBF441B7D#32
  | 13 => 0xBED8616C#32
  | 14 => 0xA553C9CA#32
  | 15 => 0x3ED8616C#32
  | 16 => 0x3F441B7D#32
  | 17 => 0x3F7746EA#32
  | 18 => 0x3F7C1C5C#32
  | 19 => 0x3F51B3F3#32
  | 20 => 0x3F000000#32
  | 21 => 0x3DB27EB6#32
  | 22 => 0xBEAF1D44#32
  | 23 => 0xBF3504F3#32
  | 24 => 0xBF708FB2#32
  | 25 => 0xBF7F069E#32
  | 26 => 0xBF5DB3D7#32
  | 27 => 0xBF12D5E8#32
  | 28 => 0xBE31D0D4#32
  | 29 => 0x3E8483EE#32
  | 30 => 0x3F248DBB#32
  | 31 => 0x3F6803CA#32
  | 32 => 0x3F800000#32
  | 33 => 0x3F659974#32
  | 34 => 0x3F1BD7CA#32
  | 35 => 0x3E47C5C2#32
  | 36 => 0xBE8483EE#32
  | 37 => 0xBF28CAE3#32
  | 38 => 0xBF6C835E#32
  | 39 => 0xBF7F73AF#32
  | 40 => 0xBF5DB3D7#32
  | 41 => 0xBF0E39DA#32
  | 42 => 0xBE05A8A8#32
  | 43 => 0x3EA493B7#32
  | 44 => 0x3F3504F3#32
  | 45 => 0x3F726A03#32
  | 46 => 0x3F7DCF55#32
  | 47 => 0x3F54DB31#32
  | 48 => 0x3F000000#32
  | 49 => 0x3D85F213#32
  | 50 => 0xBEC3EF15#32
  | 51 => 0xBF407893#32
  | 52 => 0xBF7746EA#32
  | 53 => 0xBF7B14BE#32
  | 54 => 0xBF4B1934#32
  | 55 => 0xBEE273AA#32
  | 56 => 0xA553C9CA#32
  | 57 => 0x3EE273AA#32
  | 58 => 0x3F4B1934#32
  | 59 => 0x3F7B14BE#32
  | 60 => 0x3F7746EA#32
  | 61 => 0x3F407893#32
  | 62 => 0x3EC3EF15#32
  | 63 => 0xBD85F213#32
  | 64 => 0xBF000000#32
  | 65 => 0xBF54DB31#32
  | 66 => 0xBF7DCF55#32
  | 67 => 0xBF726A03#32
  | 68 => 0xBF3504F3#32
  | 69 => 0xBEA493B7#32
  | 70 => 0x3E05A8A8#32
  | 71 => 0x3F0E39DA#32
  | 72 => 0x3F5DB3D7#32
  | 73 => 0x3F7F73AF#32
  | 74 => 0x3F6C835E#32
  | 75 => 0x3F28CAE3#32
  | 76 => 0x3E8483EE#32
  | 77 => 0xBE47C5C2#32
  | 78 => 0xBF1BD7CA#32
  | 79 => 0xBF659974#32
  | 80 => 0xBF800000#32
  | 81 => 0xBF659974#32
  | 82 => 0xBF1BD7CA#32
  | 83 => 0xBE47C5C2#32
  | 84 => 0x3E8483EE#32
  | 85 => 0x3F28CAE3#32
  | 86 => 0x3F6C835E#32
  | 87 => 0x3F7F73AF#32
  | 88 => 0x3F5DB3D7#32
  | 89 => 0x3F0E39DA#32
  | 90 => 0x3E05A8A8#32
  | 91 => 0xBEA493B7#32
  | 92 => 0xBF3504F3#32
  | 93 => 0xBF726A03#32
  | 94 => 0xBF7DCF55#32
  | 95 => 0xBF54DB31#32
  | 96 => 0xBF000000#32
  | 97 => 0xBD85F213#32
  | 98 => 0x3EC3EF15#32
  | 99 => 0x3F407893#32
  | 100 => 0x3F7746EA#32
  | 101 => 0x3F7B14BE#32
  | 102 => 0x3F4B1934#32
  | 103 => 0x3EE273AA#32
  | 104 => 0x248D3132#32
  | 105 => 0xBEE273AA#32
  | 106 => 0xBF4B1934#32
  | 107 => 0xBF7B14BE#32
  | 108 => 0xBF7746EA#32
  | 109 => 0xBF407893#32
  | 110 => 0xBEC3EF15#32
  | 111 => 0x3D85F213#32
  | 112 => 0x3F000000#32
  | 113 => 0x3F54DB31#32
  | 114 => 0x3F7DCF55#32
  | 115 => 0x3F726A03#32
  | 116 => 0x3F3504F3#32
  | 117 => 0x3EA493B7#32
  | 118 => 0xBE05A8A8#32
  | 119 => 0xBF0E39DA#32
  | 120 => 0xBF5DB3D7#32
  | 121 => 0xBF7F73AF#32
  | 122 => 0xBF6C835E#32
  | 123 => 0xBF28CAE3#32
  | 124 => 0xBE8483EE#32
  | 125 => 0x3E47C5C2#32
  | 126 => 0x3F1BD7CA#32
  | 127 => 0x3F659974#32
  | _ => 0#32

noncomputable abbrev lit0t0_48 (i : Nat) : BitVec 32 := match i % 128 with
  | 0 => 0x3F800000#32
  | 1 => 0x3F659974#32
  | 2 => 0x3F1BD7CA#32
  | 3 => 0x3E47C5C2#32
  | 4 => 0xBE8483EE#32
  | 5 => 0xBF28CAE3#32
  | 6 => 0xBF6C835E#32
  | 7 => 0xBF7F73AF#32
  | 8 => 0xBF5DB3D7#32
  | 9 => 0xBF0E39DA#32
  | 10 => 0xBE05A8A8#32
  | 11 => 0x3EA493B7#32
  | 12 => 0x3F3504F3#32
  | 13 => 0x3F726A03#32
  | 14 => 0x3F7DCF55#32
  | 15 => 0x3F54DB31#32
  | 16 => 0x3F000000#32
  | 17 => 0x3D85F213#32
  | 18 => 0xBEC3EF15#32
  | 19 => 0xBF407893#32
  | 20 => 0xBF7746EA#32
  | 21 => 0xBF7B14BE#32
  | 22 => 0xBF4B1934#32
  | 23 => 0xBEE273AA#32
  | 24 => 0xA553C9CA#32
  | 25 => 0x3EE273AA#32
  | 26 => 0x3F4B1934#32
  | 27 => 0x3F7B14BE#32
  | 28 => 0x3F7746EA#32
  | 29 => 0x3F407893#32
  | 30 => 0x3EC3EF15#32
  | 31 => 0xBD85F213#32
  | 32 => 0xBF000000#32
  | 33 => 0xBF54DB31#32
  | 34 => 0xBF7DCF55#32
  | 35 => 0xBF726A03#32
  | 36 => 0xBF3504F3#32
  | 37 => 0xBEA493B7#32
  | 38 => 0x3E05A8A8#32
  | 39 => 0x3F0E39DA#32
  | 40 => 0x3F5DB3D7#32
  | 41 => 0x3F7F73AF#32
  | 42 => 0x3F6C835E#32
  | 43 => 0x3F28CAE3#32
  | 44 => 0x3E8483EE#32
  | 45 => 0xBE47C5C2#32
  | 46 => 0xBF1BD7CA#32
  | 47 => 0xBF659974#32
  | 48 => 0xBF800000#32
  | 49 => 0xBF659974#32
  | 50 => 0xBF1BD7CA#32
  | 51 => 0xBE47C5C2#32
  | 52 => 0x3E8483EE#32
  | 53 => 0x3F28CAE3#32
  | 54 => 0x3F6C835E#32
  | 55 => 0x3F7F73AF#32
  | 56 => 0x3F5DB3D7#32
  | 57 => 0x3F0E39DA#32
  | 58 => 0x3E05A8A8#32
  | 59 => 0xBEA493B7#32
  | 60 => 0xBF3504F3#32
  | 61 => 0xBF726A03#32
  | 62 => 0xBF7DCF55#32
  | 63 => 0xBF54DB31#32
  | 64 => 0xBF000000#32
  | 65 => 0xBD85F213#32
  | 66 => 0x3EC3EF15#32
  | 67 => 0x3F407893#32
  | 68 => 0x3F7746EA#32
  | 69 => 0x3F7B14BE#32
  | 70 => 0x3F4B1934#32
  | 71 => 0x3EE273AA#32
  | 72 => 0x248D3132#32
  | 73 => 0xBEE273AA#32
  | 74 => 0xBF4B1934#32
  | 75 => 0xBF7B14BE#32
  | 76 => 0xBF7746EA#32
  | 77 => 0xBF407893#32
  | 78 => 0xBEC3EF15#32
  | 79 => 0x3D85F213#32
  | 80 => 0x3F000000#32
  | 81 => 0x3F54DB31#32
  | 82 => 0x3F7DCF55#32
  | 83 => 0x3F726A03#32
  | 84 => 0x3F3504F3#32
  | 85 => 0x3EA493B7#32
  | 86 => 0xBE05A8A8#32
  | 87 => 0xBF0E39DA#32
  | 88 => 0xBF5DB3D7#32
  | 89 => 0xBF7F73AF#32
  | 90 => 0xBF6C835E#32
  | 91 => 0xBF28CAE3#32
  | 92 => 0xBE8483EE#32
  | 93 => 0x3E47C5C2#32
  | 94 => 0x3F1BD7CA#32
  | 95 => 0x3F659974#32
  | 96 => 0x3F800000#32
  | 97 => 0x3F659974#32
  | 98 => 0x3F1BD7CA#32
  | 99 => 0x3E47C5C2#32
  | 100 => 0xBE8483EE#32
  | 101 => 0xBF28CAE3#32
  | 102 => 0xBF6C835E#32
  | 103 => 0xBF7F73AF#32
  | 104 => 0xBF5DB3D7#32
  | 105 => 0xBF0E39DA#32
  | 106 => 0xBE05A8A8#32
  | 107 => 0x3EA493B7#32
  | 108 => 0x3F3504F3#32
  | 109 => 0x3F726A03#32
  | 110 => 0x3F7DCF55#32
  | 111 => 0x3F54DB31#32
  | 112 => 0x3F000000#32
  | 113 => 0x3D85F213#32
  | 114 => 0xBEC3EF15#32
  | 115 => 0xBF407893#32
  | 116 => 0xBF7746EA#32
  | 117 => 0xBF7B14BE#32
  | 118 => 0xBF4B1934#32
  | 119 => 0xBEE273AA#32
  | 120 => 0xA553C9CA#32
  | 121 => 0x3EE273AA#32
  | 122 => 0x3F4B1934#32
  | 123 => 0x3F7B14BE#32
  | 124 => 0x3F7746EA#32
  | 125 => 0x3F407893#32
  | 126 => 0x3EC3EF15#32
  | 127 => 0xBD85F213#32
  | _ => 0#32

noncomputable abbrev lit0t0_49 (i : Nat) : BitVec 32 := match i % 128 with
  | 0 => 0xBF000000#32
  | 1 => 0xBF54DB31#32
  | 2 => 0xBF7DCF55#32
  | 3 => 0xBF726A03#32
  | 4 => 0xBF3504F3#32
  | 5 => 0xBEA493B7#32
  | 6 => 0x3E05A8A8#32
  | 7 => 0x3F0E39DA#32
  | 8 => 0x3F5DB3D7#32
  | 9 => 0x3F7F73AF#32
  | 10 => 0x3F6C835E#32
  | 11 => 0x3F28CAE3#32
  | 12 => 0x3E8483EE#32
  | 13 => 0xBE47C5C2#32
  | 14 => 0xBF1BD7CA#32
  | 15 => 0xBF659974#32
  | 16 => 0xBF800000#32
  | 17 => 0xBF659974#32
  | 18 => 0xBF1BD7CA#32
  | 19 => 0xBE47C5C2#32
  | 20 => 0x3E8483EE#32
  | 21 => 0x3F28CAE3#32
  | 22 => 0x3F6C835E#32
  | 23 => 0x3F7F73AF#32
  | 24 => 0x3F5DB3D7#32
  | 25 => 0x3F0E39DA#32
  | 26 => 0x3E05A8A8#32
  | 27 => 0xBEA493B7#32
  | 28 => 0xBF3504F3#32
  | 29 => 0xBF726A03#32
  | 30 => 0xBF7DCF55#32
  | 31 => 0xBF54DB31#32
  | 32 => 0xBF000000#32
  | 33 => 0xBD85F213#32
  | 34 => 0x3EC3EF15#32
  | 35 => 0x3F407893#32
  | 36 => 0x3F7746EA#32
  | 37 => 0x3F7B14BE#32
  | 38 => 0x3F4B1934#32
  | 39 => 0x3EE273AA#32
  | 40 => 0x248D3132#32
  | 41 => 0xBEE273AA#32
  | 42 => 0xBF4B1934#32
  | 43 => 0xBF7B14BE#32
  | 44 => 0xBF7746EA#32
  | 45 => 0xBF407893#32
  | 46 => 0xBEC3EF15#32
  | 47 => 0x3D85F213#32
  | 48 => 0x3F000000#32
  | 49 => 0x3F54DB31#32
  | 50 => 0x3F7DCF55#32
  | 51 => 0x3F726A03#32
  | 52 => 0x3F3504F3#32
  | 53 => 0x3EA493B7#32
  | 54 => 0xBE05A8A8#32
  | 55 => 0xBF0E39DA#32
  | 56 => 0xBF5DB3D7#32
  | 57 => 0xBF7F73AF#32
  | 58 => 0xBF6C835E#32
  | 59 => 0xBF28CAE3#32
  | 60 => 0xBE8483EE#32
  | 61 => 0x3E47C5C2#32
  | 62 => 0x3F1BD7CA#32
  | 63 => 0x3F659974#32
  | 64 => 0x3F800000#32
  | 65 => 0x3F631324#32
  | 66 => 0x3F12D5E8#32
  | 67 => 0x3E05A8A8#32
  | 68 => 0xBEAF1D44#32
  | 69 => 0xBF3CBE35#32
  | 70 => 0xBF7746EA#32
  | 71 => 0xBF79EE89#32
  | 72 => 0xBF441B7D#32
  | 73 => 0xBEC3EF15#32
  | 74 => 0x3DB27EB6#32
  | 75 => 0x3F098C78#32
  | 76 => 0x3F5DB3D7#32
  | 77 => 0x3F7FC1A0#32
  | 78 => 0x3F6803CA#32
  | 79 => 0x3F1BD7CA#32
  | 80 => 0x3E31D0D4#32
  | 81 => 0xBE99F61C#32
  | 82 => 0xBF3504F3#32
  | 83 => 0xBF7426CB#32
  | 84 => 0xBF7C1C5C#32
  | 85 => 0xBF4B1934#32
  | 86 => 0xBED8616C#32
  | 87 => 0x3D32AA3E#32
  | 88 => 0x3F000000#32
  | 89 => 0x3F57E880#32
  | 90 => 0x3F7F069E#32
  | 91 => 0x3F6C835E#32
  | 92 => 0x3F248DBB#32
  | 93 => 0x3E5DA259#32
  | 94 => 0xBE8483EE#32
  | 95 => 0xBF2CF37B#32
  | 96 => 0xBF708FB2#32
  | 97 => 0xBF7DCF55#32
  | 98 => 0xBF51B3F3#32
  | 99 => 0xBEEC6A50#32
  | 100 => 0xA553C9CA#32
  | 101 => 0x3EEC6A50#32
  | 102 => 0x3F51B3F3#32
  | 103 => 0x3F7DCF55#32
  | 104 => 0x3F708FB2#32
  | 105 => 0x3F2CF37B#32
  | 106 => 0x3E8483EE#32
  | 107 => 0xBE5DA259#32
  | 108 => 0xBF248DBB#32
  | 109 => 0xBF6C835E#32
  | 110 => 0xBF7F069E#32
  | 111 => 0xBF57E880#32
  | 112 => 0xBF000000#32
  | 113 => 0xBD32AA3E#32
  | 114 => 0x3ED8616C#32
  | 115 => 0x3F4B1934#32
  | 116 => 0x3F7C1C5C#32
  | 117 => 0x3F7426CB#32
  | 118 => 0x3F3504F3#32
  | 119 => 0x3E99F61C#32
  | 120 => 0xBE31D0D4#32
  | 121 => 0xBF1BD7CA#32
  | 122 => 0xBF6803CA#32
  | 123 => 0xBF7FC1A0#32
  | 124 => 0xBF5DB3D7#32
  | 125 => 0xBF098C78#32
  | 126 => 0xBDB27EB6#32
  | 127 => 0x3EC3EF15#32
  | _ => 0#32

noncomputable abbrev lit0t0_50 (i : Nat) : BitVec 32 := match i % 128 with
  | 0 => 0x3F441B7D#32
  | 1 => 0x3F79EE89#32
  | 2 => 0x3F7746EA#32
  | 3 => 0x3F3CBE35#32
  | 4 => 0x3EAF1D44#32
  | 5 => 0xBE05A8A8#32
  | 6 => 0xBF12D5E8#32
  | 7 => 0xBF631324#32
  | 8 => 0xBF800000#32
  | 9 => 0xBF631324#32
  | 10 => 0xBF12D5E8#32
  | 11 => 0xBE05A8A8#32
  | 12 => 0x3EAF1D44#32
  | 13 => 0x3F3CBE35#32
  | 14 => 0x3F7746EA#32
  | 15 => 0x3F79EE89#32
  | 16 => 0x3F441B7D#32
  | 17 => 0x3EC3EF15#32
  | 18 => 0xBDB27EB6#32
  | 19 => 0xBF098C78#32
  | 20 => 0xBF5DB3D7#32
  | 21 => 0xBF7FC1A0#32
  | 22 => 0xBF6803CA#32
  | 23 => 0xBF1BD7CA#32
  | 24 => 0xBE31D0D4#32
  | 25 => 0x3E99F61C#32
  | 26 => 0x3F3504F3#32
  | 27 => 0x3F7426CB#32
  | 28 => 0x3F7C1C5C#32
  | 29 => 0x3F4B1934#32
  | 30 => 0x3ED8616C#32
  | 31 => 0xBD32AA3E#32
  | 32 => 0xBF000000#32
  | 33 => 0xBF57E880#32
  | 34 => 0xBF7F069E#32
  | 35 => 0xBF6C835E#32
  | 36 => 0xBF248DBB#32
  | 37 => 0xBE5DA259#32
  | 38 => 0x3E8483EE#32
  | 39 => 0x3F2CF37B#32
  | 40 => 0x3F708FB2#32
  | 41 => 0x3F7DCF55#32
  | 42 => 0x3F51B3F3#32
  | 43 => 0x3EEC6A50#32
  | 44 => 0x248D3132#32
  | 45 => 0xBEEC6A50#32
  | 46 => 0xBF51B3F3#32
  | 47 => 0xBF7DCF55#32
  | 48 => 0xBF708FB2#32
  | 49 => 0xBF2CF37B#32
  | 50 => 0xBE8483EE#32
  | 51 => 0x3E5DA259#32
  | 52 => 0x3F248DBB#32
  | 53 => 0x3F6C835E#32
  | 54 => 0x3F7F069E#32
  | 55 => 0x3F57E880#32
  | 56 => 0x3F000000#32
  | 57 => 0x3D32AA3E#32
  | 58 => 0xBED8616C#32
  | 59 => 0xBF4B1934#32
  | 60 => 0xBF7C1C5C#32
  | 61 => 0xBF7426CB#32
  | 62 => 0xBF3504F3#32
  | 63 => 0xBE99F61C#32
  | 64 => 0x3E31D0D4#32
  | 65 => 0x3F1BD7CA#32
  | 66 => 0x3F6803CA#32
  | 67 => 0x3F7FC1A0#32
  | 68 => 0x3F5DB3D7#32
  | 69 => 0x3F098C78#32
  | 70 => 0x3DB27EB6#32
  | 71 => 0xBEC3EF15#32
  | 72 => 0xBF441B7D#32
  | 73 => 0xBF79EE89#32
  | 74 => 0xBF7746EA#32
  | 75 => 0xBF3CBE35#32
  | 76 => 0xBEAF1D44#32
  | 77 => 0x3E05A8A8#32
  | 78 => 0x3F12D5E8#32
  | 79 => 0x3F631324#32
  | 80 => 0x3F800000#32
  | 81 => 0x3F631324#32
  | 82 => 0x3F12D5E8#32
  | 83 => 0x3E05A8A8#32
  | 84 => 0xBEAF1D44#32
  | 85 => 0xBF3CBE35#32
  | 86 => 0xBF7746EA#32
  | 87 => 0xBF79EE89#32
  | 88 => 0xBF441B7D#32
  | 89 => 0xBEC3EF15#32
  | 90 => 0x3DB27EB6#32
  | 91 => 0x3F098C78#32
  | 92 => 0x3F5DB3D7#32
  | 93 => 0x3F7FC1A0#32
  | 94 => 0x3F6803CA#32
  | 95 => 0x3F1BD7CA#32
  | 96 => 0x3E31D0D4#32
  | 97 => 0xBE99F61C#32
  | 98 => 0xBF3504F3#32
  | 99 => 0xBF7426CB#32
  | 100 => 0xBF7C1C5C#32
  | 101 => 0xBF4B1934#32
  | 102 => 0xBED8616C#32
  | 103 => 0x3D32AA3E#32
  | 104 => 0x3F000000#32
  | 105 => 0x3F57E880#32
  | 106 => 0x3F7F069E#32
  | 107 => 0x3F6C835E#32
  | 108 => 0x3F248DBB#32
  | 109 => 0x3E5DA259#32
  | 110 => 0xBE8483EE#32
  | 111 => 0xBF2CF37B#32
  | 112 => 0xBF708FB2#32
  | 113 => 0xBF7DCF55#32
  | 114 => 0xBF51B3F3#32
  | 115 => 0xBEEC6A50#32
  | 116 => 0xA553C9CA#32
  | 117 => 0x3EEC6A50#32
  | 118 => 0x3F51B3F3#32
  | 119 => 0x3F7DCF55#32
  | 120 => 0x3F708FB2#32
  | 121 => 0x3F2CF37B#32
  | 122 => 0x3E8483EE#32
  | 123 => 0xBE5DA259#32
  | 124 => 0xBF248DBB#32
  | 125 => 0xBF6C835E#32
  | 126 => 0xBF7F069E#32
  | 127 => 0xBF57E880#32
  | _ => 0#32

noncomputable abbrev lit0t0_51 (i : Nat) : BitVec 32 := match i % 128 with
  | 0 => 0xBF000000#32
  | 1 => 0xBD32AA3E#32
  | 2 => 0x3ED8616C#32
  | 3 => 0x3F4B1934#32
  | 4 => 0x3F7C1C5C#32
  | 5 => 0x3F7426CB#32
  | 6 => 0x3F3504F3#32
  | 7 => 0x3E99F61C#32
  | 8 => 0xBE31D0D4#32
  | 9 => 0xBF1BD7CA#32
  | 10 => 0xBF6803CA#32
  | 11 => 0xBF7FC1A0#32
  | 12 => 0xBF5DB3D7#32
  | 13 => 0xBF098C78#32
  | 14 => 0xBDB27EB6#32
  | 15 => 0x3EC3EF15#32
  | 16 => 0x3F441B7D#32
  | 17 => 0x3F79EE89#32
  | 18 => 0x3F7746EA#32
  | 19 => 0x3F3CBE35#32
  | 20 => 0x3EAF1D44#32
  | 21 => 0xBE05A8A8#32
  | 22 => 0xBF12D5E8#32
  | 23 => 0xBF631324#32
  | 24 => 0xBF800000#32
  | 25 => 0xBF631324#32
  | 26 => 0xBF12D5E8#32
  | 27 => 0xBE05A8A8#32
  | 28 => 0x3EAF1D44#32
  | 29 => 0x3F3CBE35#32
  | 30 => 0x3F7746EA#32
  | 31 => 0x3F79EE89#32
  | 32 => 0x3F441B7D#32
  | 33 => 0x3EC3EF15#32
  | 34 => 0xBDB27EB6#32
  | 35 => 0xBF098C78#32
  | 36 => 0xBF5DB3D7#32
  | 37 => 0xBF7FC1A0#32
  | 38 => 0xBF6803CA#32
  | 39 => 0xBF1BD7CA#32
  | 40 => 0xBE31D0D4#32
  | 41 => 0x3E99F61C#32
  | 42 => 0x3F3504F3#32
  | 43 => 0x3F7426CB#32
  | 44 => 0x3F7C1C5C#32
  | 45 => 0x3F4B1934#32
  | 46 => 0x3ED8616C#32
  | 47 => 0xBD32AA3E#32
  | 48 => 0xBF000000#32
  | 49 => 0xBF57E880#32
  | 50 => 0xBF7F069E#32
  | 51 => 0xBF6C835E#32
  | 52 => 0xBF248DBB#32
  | 53 => 0xBE5DA259#32
  | 54 => 0x3E8483EE#32
  | 55 => 0x3F2CF37B#32
  | 56 => 0x3F708FB2#32
  | 57 => 0x3F7DCF55#32
  | 58 => 0x3F51B3F3#32
  | 59 => 0x3EEC6A50#32
  | 60 => 0x248D3132#32
  | 61 => 0xBEEC6A50#32
  | 62 => 0xBF51B3F3#32
  | 63 => 0xBF7DCF55#32
  | 64 => 0xBF708FB2#32
  | 65 => 0xBF2CF37B#32
  | 66 => 0xBE8483EE#32
  | 67 => 0x3E5DA259#32
  | 68 => 0x3F248DBB#32
  | 69 => 0x3F6C835E#32
  | 70 => 0x3F7F069E#32
  | 71 => 0x3F57E880#32
  | 72 => 0x3F000000#32
  | 73 => 0x3D32AA3E#32
  | 74 => 0xBED8616C#32
  | 75 => 0xBF4B1934#32
  | 76 => 0xBF7C1C5C#32
  | 77 => 0xBF7426CB#32
  | 78 => 0xBF3504F3#32
  | 79 => 0xBE99F61C#32
  | 80 => 0x3E31D0D4#32
  | 81 => 0x3F1BD7CA#32
  | 82 => 0x3F6803CA#32
  | 83 => 0x3F7FC1A0#32
  | 84 => 0x3F5DB3D7#32
  | 85 => 0x3F098C78#32
  | 86 => 0x3DB27EB6#32
  | 87 => 0xBEC3EF15#32
  | 88 => 0xBF441B7D#32
  | 89 => 0xBF79EE89#32
  | 90 => 0xBF7746EA#32
  | 91 => 0xBF3CBE35#32
  | 92 => 0xBEAF1D44#32
  | 93 => 0x3E05A8A8#32
  | 94 => 0x3F12D5E8#32
  | 95 => 0x3F631324#32
  | 96 => 0x3F800000#32
  | 97 => 0x3F60712A#32
  | 98 => 0x3F098C78#32
  | 99 => 0x3D85F213#32
  | 100 => 0xBED8616C#32
  | 101 => 0xBF4E7327#32
  | 102 => 0xBF7DCF55#32
  | 103 => 0xBF6E9811#32
  | 104 => 0xBF248DBB#32
  | 105 => 0xBE47C5C2#32
  | 106 => 0x3E99F61C#32
  | 107 => 0x3F38ECD8#32
  | 108 => 0x3F7746EA#32
  | 109 => 0x3F78A9E0#32
  | 110 => 0x3F3CBE35#32
  | 111 => 0x3EA493B7#32
  | 112 => 0xBE31D0D4#32
  | 113 => 0xBF203C85#32
  | 114 => 0xBF6C835E#32
  | 115 => 0xBF7E7A7A#32
  | 116 => 0xBF51B3F3#32
  | 117 => 0xBEE273AA#32
  | 118 => 0x3D32AA3E#32
  | 119 => 0x3F04CE53#32
  | 120 => 0x3F5DB3D7#32
  | 121 => 0x3F7FF067#32
  | 122 => 0x3F631324#32
  | 123 => 0x3F0E39DA#32
  | 124 => 0x3DB27EB6#32
  | 125 => 0xBECE34D0#32
  | 126 => 0xBF4B1934#32
  | 127 => 0xBF7D0543#32
  | _ => 0#32

noncomputable abbrev lit0t0_52 (i : Nat) : BitVec 32 := match i % 128 with
  | 0 => 0xBF708FB2#32
  | 1 => 0xBF28CAE3#32
  | 2 => 0xBE5DA259#32
  | 3 => 0x3E8F45C0#32
  | 4 => 0x3F3504F3#32
  | 5 => 0x3F75C5D4#32
  | 6 => 0x3F79EE89#32
  | 7 => 0x3F407893#32
  | 8 => 0x3EAF1D44#32
  | 9 => 0xBE1BC63C#32
  | 10 => 0xBF1BD7CA#32
  | 11 => 0xBF6A51DA#32
  | 12 => 0xBF7F069E#32
  | 13 => 0xBF54DB31#32
  | 14 => 0xBEEC6A50#32
  | 15 => 0x3CB2B521#32
  | 16 => 0x3F000000#32
  | 17 => 0x3F5ADB81#32
  | 18 => 0x3F7FC1A0#32
  | 19 => 0x3F659974#32
  | 20 => 0x3F12D5E8#32
  | 21 => 0x3DDEF599#32
  | 22 => 0xBEC3EF15#32
  | 23 => 0xBF47A682#32
  | 24 => 0xBF7C1C5C#32
  | 25 => 0xBF726A03#32
  | 26 => 0xBF2CF37B#32
  | 27 => 0xBE7363EE#32
  | 28 => 0x3E8483EE#32
  | 29 => 0x3F310700#32
  | 30 => 0x3F7426CB#32
  | 31 => 0x3F7B14BE#32
  | 32 => 0x3F441B7D#32
  | 33 => 0x3EB9917B#32
  | 34 => 0xBE05A8A8#32
  | 35 => 0xBF176012#32
  | 36 => 0xBF6803CA#32
  | 37 => 0xBF7F73AF#32
  | 38 => 0xBF57E880#32
  | 39 => 0xBEF64429#32
  | 40 => 0xA553C9CA#32
  | 41 => 0x3EF64429#32
  | 42 => 0x3F57E880#32
  | 43 => 0x3F7F73AF#32
  | 44 => 0x3F6803CA#32
  | 45 => 0x3F176012#32
  | 46 => 0x3E05A8A8#32
  | 47 => 0xBEB9917B#32
  | 48 => 0xBF441B7D#32
  | 49 => 0xBF7B14BE#32
  | 50 => 0xBF7426CB#32
  | 51 => 0xBF310700#32
  | 52 => 0xBE8483EE#32
  | 53 => 0x3E7363EE#32
  | 54 => 0x3F2CF37B#32
  | 55 => 0x3F726A03#32
  | 56 => 0x3F7C1C5C#32
  | 57 => 0x3F47A682#32
  | 58 => 0x3EC3EF15#32
  | 59 => 0xBDDEF599#32
  | 60 => 0xBF12D5E8#32
  | 61 => 0xBF659974#32
  | 62 => 0xBF7FC1A0#32
  | 63 => 0xBF5ADB81#32
  | 64 => 0xBF000000#32
  | 65 => 0xBCB2B521#32
  | 66 => 0x3EEC6A50#32
  | 67 => 0x3F54DB31#32
  | 68 => 0x3F7F069E#32
  | 69 => 0x3F6A51DA#32
  | 70 => 0x3F1BD7CA#32
  | 71 => 0x3E1BC63C#32
  | 72 => 0xBEAF1D44#32
  | 73 => 0xBF407893#32
  | 74 => 0xBF79EE89#32
  | 75 => 0xBF75C5D4#32
  | 76 => 0xBF3504F3#32
  | 77 => 0xBE8F45C0#32
  | 78 => 0x3E5DA259#32
  | 79 => 0x3F28CAE3#32
  | 80 => 0x3F708FB2#32
  | 81 => 0x3F7D0543#32
  | 82 => 0x3F4B1934#32
  | 83 => 0x3ECE34D0#32
  | 84 => 0xBDB27EB6#32
  | 85 => 0xBF0E39DA#32
  | 86 => 0xBF631324#32
  | 87 => 0xBF7FF067#32
  | 88 => 0xBF5DB3D7#32
  | 89 => 0xBF04CE53#32
  | 90 => 0xBD32AA3E#32
  | 91 => 0x3EE273AA#32
  | 92 => 0x3F51B3F3#32
  | 93 => 0x3F7E7A7A#32
  | 94 => 0x3F6C835E#32
  | 95 => 0x3F203C85#32
  | 96 => 0x3E31D0D4#32
  | 97 => 0xBEA493B7#32
  | 98 => 0xBF3CBE35#32
  | 99 => 0xBF78A9E0#32
  | 100 => 0xBF7746EA#32
  | 101 => 0xBF38ECD8#32
  | 102 => 0xBE99F61C#32
  | 103 => 0x3E47C5C2#32
  | 104 => 0x3F248DBB#32
  | 105 => 0x3F6E9811#32
  | 106 => 0x3F7DCF55#32
  | 107 => 0x3F4E7327#32
  | 108 => 0x3ED8616C#32
  | 109 => 0xBD85F213#32
  | 110 => 0xBF098C78#32
  | 111 => 0xBF60712A#32
  | 112 => 0xBF800000#32
  | 113 => 0xBF60712A#32
  | 114 => 0xBF098C78#32
  | 115 => 0xBD85F213#32
  | 116 => 0x3ED8616C#32
  | 117 => 0x3F4E7327#32
  | 118 => 0x3F7DCF55#32
  | 119 => 0x3F6E9811#32
  | 120 => 0x3F248DBB#32
  | 121 => 0x3E47C5C2#32
  | 122 => 0xBE99F61C#32
  | 123 => 0xBF38ECD8#32
  | 124 => 0xBF7746EA#32
  | 125 => 0xBF78A9E0#32
  | 126 => 0xBF3CBE35#32
  | 127 => 0xBEA493B7#32
  | _ => 0#32

noncomputable abbrev lit0t0_53 (i : Nat) : BitVec 32 := match i % 128 with
  | 0 => 0x3E31D0D4#32
  | 1 => 0x3F203C85#32
  | 2 => 0x3F6C835E#32
  | 3 => 0x3F7E7A7A#32
  | 4 => 0x3F51B3F3#32
  | 5 => 0x3EE273AA#32
  | 6 => 0xBD32AA3E#32
  | 7 => 0xBF04CE53#32
  | 8 => 0xBF5DB3D7#32
  | 9 => 0xBF7FF067#32
  | 10 => 0xBF631324#32
  | 11 => 0xBF0E39DA#32
  | 12 => 0xBDB27EB6#32
  | 13 => 0x3ECE34D0#32
  | 14 => 0x3F4B1934#32
  | 15 => 0x3F7D0543#32
  | 16 => 0x3F708FB2#32
  | 17 => 0x3F28CAE3#32
  | 18 => 0x3E5DA259#32
  | 19 => 0xBE8F45C0#32
  | 20 => 0xBF3504F3#32
  | 21 => 0xBF75C5D4#32
  | 22 => 0xBF79EE89#32
  | 23 => 0xBF407893#32
  | 24 => 0xBEAF1D44#32
  | 25 => 0x3E1BC63C#32
  | 26 => 0x3F1BD7CA#32
  | 27 => 0x3F6A51DA#32
  | 28 => 0x3F7F069E#32
  | 29 => 0x3F54DB31#32
  | 30 => 0x3EEC6A50#32
  | 31 => 0xBCB2B521#32
  | 32 => 0xBF000000#32
  | 33 => 0xBF5ADB81#32
  | 34 => 0xBF7FC1A0#32
  | 35 => 0xBF659974#32
  | 36 => 0xBF12D5E8#32
  | 37 => 0xBDDEF599#32
  | 38 => 0x3EC3EF15#32
  | 39 => 0x3F47A682#32
  | 40 => 0x3F7C1C5C#32
  | 41 => 0x3F726A03#32
  | 42 => 0x3F2CF37B#32
  | 43 => 0x3E7363EE#32
  | 44 => 0xBE8483EE#32
  | 45 => 0xBF310700#32
  | 46 => 0xBF7426CB#32
  | 47 => 0xBF7B14BE#32
  | 48 => 0xBF441B7D#32
  | 49 => 0xBEB9917B#32
  | 50 => 0x3E05A8A8#32
  | 51 => 0x3F176012#32
  | 52 => 0x3F6803CA#32
  | 53 => 0x3F7F73AF#32
  | 54 => 0x3F57E880#32
  | 55 => 0x3EF64429#32
  | 56 => 0x248D3132#32
  | 57 => 0xBEF64429#32
  | 58 => 0xBF57E880#32
  | 59 => 0xBF7F73AF#32
  | 60 => 0xBF6803CA#32
  | 61 => 0xBF176012#32
  | 62 => 0xBE05A8A8#32
  | 63 => 0x3EB9917B#32
  | 64 => 0x3F441B7D#32
  | 65 => 0x3F7B14BE#32
  | 66 => 0x3F7426CB#32
  | 67 => 0x3F310700#32
  | 68 => 0x3E8483EE#32
  | 69 => 0xBE7363EE#32
  | 70 => 0xBF2CF37B#32
  | 71 => 0xBF726A03#32
  | 72 => 0xBF7C1C5C#32
  | 73 => 0xBF47A682#32
  | 74 => 0xBEC3EF15#32
  | 75 => 0x3DDEF599#32
  | 76 => 0x3F12D5E8#32
  | 77 => 0x3F659974#32
  | 78 => 0x3F7FC1A0#32
  | 79 => 0x3F5ADB81#32
  | 80 => 0x3F000000#32
  | 81 => 0x3CB2B521#32
  | 82 => 0xBEEC6A50#32
  | 83 => 0xBF54DB31#32
  | 84 => 0xBF7F069E#32
  | 85 => 0xBF6A51DA#32
  | 86 => 0xBF1BD7CA#32
  | 87 => 0xBE1BC63C#32
  | 88 => 0x3EAF1D44#32
  | 89 => 0x3F407893#32
  | 90 => 0x3F79EE89#32
  | 91 => 0x3F75C5D4#32
  | 92 => 0x3F3504F3#32
  | 93 => 0x3E8F45C0#32
  | 94 => 0xBE5DA259#32
  | 95 => 0xBF28CAE3#32
  | 96 => 0xBF708FB2#32
  | 97 => 0xBF7D0543#32
  | 98 => 0xBF4B1934#32
  | 99 => 0xBECE34D0#32
  | 100 => 0x3DB27EB6#32
  | 101 => 0x3F0E39DA#32
  | 102 => 0x3F631324#32
  | 103 => 0x3F7FF067#32
  | 104 => 0x3F5DB3D7#32
  | 105 => 0x3F04CE53#32
  | 106 => 0x3D32AA3E#32
  | 107 => 0xBEE273AA#32
  | 108 => 0xBF51B3F3#32
  | 109 => 0xBF7E7A7A#32
  | 110 => 0xBF6C835E#32
  | 111 => 0xBF203C85#32
  | 112 => 0xBE31D0D4#32
  | 113 => 0x3EA493B7#32
  | 114 => 0x3F3CBE35#32
  | 115 => 0x3F78A9E0#32
  | 116 => 0x3F7746EA#32
  | 117 => 0x3F38ECD8#32
  | 118 => 0x3E99F61C#32
  | 119 => 0xBE47C5C2#32
  | 120 => 0xBF248DBB#32
  | 121 => 0xBF6E9811#32
  | 122 => 0xBF7DCF55#32
  | 123 => 0xBF4E7327#32
  | 124 => 0xBED8616C#32
  | 125 => 0x3D85F213#32
  | 126 => 0x3F098C78#32
  | 127 => 0x3F60712A#32
  | _ => 0#32

noncomputable abbrev lit0t0_54 (i : Nat) : BitVec 32 := match i % 128 with
  | 0 => 0x3F800000#32
  | 1 => 0x3F5DB3D7#32
  | 2 => 0x3F000000#32
  | 3 => 0x248D3132#32
  | 4 => 0xBF000000#32
  | 5 => 0xBF5DB3D7#32
  | 6 => 0xBF800000#32
  | 7 => 0xBF5DB3D7#32
  | 8 => 0xBF000000#32
  | 9 => 0xA553C9CA#32
  | 10 => 0x3F000000#32
  | 11 => 0x3F5DB3D7#32
  | 12 => 0x3F800000#32
  | 13 => 0x3F5DB3D7#32
  | 14 => 0x3F000000#32
  | 15 => 0x248D3132#32
  | 16 => 0xBF000000#32
  | 17 => 0xBF5DB3D7#32
  | 18 => 0xBF800000#32
  | 19 => 0xBF5DB3D7#32
  | 20 => 0xBF000000#32
  | 21 => 0xA553C9CA#32
  | 22 => 0x3F000000#32
  | 23 => 0x3F5DB3D7#32
  | 24 => 0x3F800000#32
  | 25 => 0x3F5DB3D7#32
  | 26 => 0x3F000000#32
  | 27 => 0x248D3132#32
  | 28 => 0xBF000000#32
  | 29 => 0xBF5DB3D7#32
  | 30 => 0xBF800000#32
  | 31 => 0xBF5DB3D7#32
  | 32 => 0xBF000000#32
  | 33 => 0xA553C9CA#32
  | 34 => 0x3F000000#32
  | 35 => 0x3F5DB3D7#32
  | 36 => 0x3F800000#32
  | 37 => 0x3F5DB3D7#32
  | 38 => 0x3F000000#32
  | 39 => 0x248D3132#32
  | 40 => 0xBF000000#32
  | 41 => 0xBF5DB3D7#32
  | 42 => 0xBF800000#32
  | 43 => 0xBF5DB3D7#32
  | 44 => 0xBF000000#32
  | 45 => 0xA553C9CA#32
  | 46 => 0x3F000000#32
  | 47 => 0x3F5DB3D7#32
  | 48 => 0x3F800000#32
  | 49 => 0x3F5DB3D7#32
  | 50 => 0x3F000000#32
  | 51 => 0x248D3132#32
  | 52 => 0xBF000000#32
  | 53 => 0xBF5DB3D7#32
  | 54 => 0xBF800000#32
  | 55 => 0xBF5DB3D7#32
  | 56 => 0xBF000000#32
  | 57 => 0xA553C9CA#32
  | 58 => 0x3F000000#32
  | 59 => 0x3F5DB3D7#32
  | 60 => 0x3F800000#32
  | 61 => 0x3F5DB3D7#32
  | 62 => 0x3F000000#32
  | 63 => 0x248D3132#32
  | 64 => 0xBF000000#32
  | 65 => 0xBF5DB3D7#32
  | 66 => 0xBF800000#32
  | 67 => 0xBF5DB3D7#32
  | 68 => 0xBF000000#32
  | 69 => 0xA553C9CA#32
  | 70 => 0x3F000000#32
  | 71 => 0x3F5DB3D7#32
  | 72 => 0x3F800000#32
  | 73 => 0x3F5DB3D7#32
  | 74 => 0x3F000000#32
  | 75 => 0x248D3132#32
  | 76 => 0xBF000000#32
  | 77 => 0xBF5DB3D7#32
  | 78 => 0xBF800000#32
  | 79 => 0xBF5DB3D7#32
  | 80 => 0xBF000000#32
  | 81 => 0xA553C9CA#32
  | 82 => 0x3F000000#32
  | 83 => 0x3F5DB3D7#32
  | 84 => 0x3F800000#32
  | 85 => 0x3F5DB3D7#32
  | 86 => 0x3F000000#32
  | 87 => 0x248D3132#32
  | 88 => 0xBF000000#32
  | 89 => 0xBF5DB3D7#32
  | 90 => 0xBF800000#32
  | 91 => 0xBF5DB3D7#32
  | 92 => 0xBF000000#32
  | 93 => 0xA553C9CA#32
  | 94 => 0x3F000000#32
  | 95 => 0x3F5DB3D7#32
  | 96 => 0x3F800000#32
  | 97 => 0x3F5DB3D7#32
  | 98 => 0x3F000000#32
  | 99 => 0x248D3132#32
  | 100 => 0xBF000000#32
  | 101 => 0xBF5DB3D7#32
  | 102 => 0xBF800000#32
  | 103 => 0xBF5DB3D7#32
  | 104 => 0xBF000000#32
  | 105 => 0xA553C9CA#32
  | 106 => 0x3F000000#32
  | 107 => 0x3F5DB3D7#32
  | 108 => 0x3F800000#32
  | 109 => 0x3F5DB3D7#32
  | 110 => 0x3F000000#32
  | 111 => 0x248D3132#32
  | 112 => 0xBF000000#32
  | 113 => 0xBF5DB3D7#32
  | 114 => 0xBF800000#32
  | 115 => 0xBF5DB3D7#32
  | 116 => 0xBF000000#32
  | 117 => 0xA553C9CA#32
  | 118 => 0x3F000000#32
  | 119 => 0x3F5DB3D7#32
  | 120 => 0x3F800000#32
  | 121 => 0x3F5DB3D7#32
  | 122 => 0x3F000000#32
  | 123 => 0x248D3132#32
  | 124 => 0xBF000000#32
  | 125 => 0xBF5DB3D7#32
  | 126 => 0xBF800000#32
  | 127 => 0xBF5DB3D7#32
  | _ => 0#32

noncomputable abbrev lit0t0_55 (i : Nat) : BitVec 32 := match i % 128 with
  | 0 => 0xBF000000#32
  | 1 => 0xA553C9CA#32
  | 2 => 0x3F000000#32
  | 3 => 0x3F5DB3D7#32
  | 4 => 0x3F800000#32
  | 5 => 0x3F5DB3D7#32
  | 6 => 0x3F000000#32
  | 7 => 0x248D3132#32
  | 8 => 0xBF000000#32
  | 9 => 0xBF5DB3D7#32
  | 10 => 0xBF800000#32
  | 11 => 0xBF5DB3D7#32
  | 12 => 0xBF000000#32
  | 13 => 0xA553C9CA#32
  | 14 => 0x3F000000#32
  | 15 => 0x3F5DB3D7#32
  | 16 => 0x3F800000#32
  | 17 => 0x3F5DB3D7#32
  | 18 => 0x3F000000#32
  | 19 => 0x248D3132#32
  | 20 => 0xBF000000#32
  | 21 => 0xBF5DB3D7#32
  | 22 => 0xBF800000#32
  | 23 => 0xBF5DB3D7#32
  | 24 => 0xBF000000#32
  | 25 => 0xA553C9CA#32
  | 26 => 0x3F000000#32
  | 27 => 0x3F5DB3D7#32
  | 28 => 0x3F800000#32
  | 29 => 0x3F5DB3D7#32
  | 30 => 0x3F000000#32
  | 31 => 0x248D3132#32
  | 32 => 0xBF000000#32
  | 33 => 0xBF5DB3D7#32
  | 34 => 0xBF800000#32
  | 35 => 0xBF5DB3D7#32
  | 36 => 0xBF000000#32
  | 37 => 0xA553C9CA#32
  | 38 => 0x3F000000#32
  | 39 => 0x3F5DB3D7#32
  | 40 => 0x3F800000#32
  | 41 => 0x3F5DB3D7#32
  | 42 => 0x3F000000#32
  | 43 => 0x248D3132#32
  | 44 => 0xBF000000#32
  | 45 => 0xBF5DB3D7#32
  | 46 => 0xBF800000#32
  | 47 => 0xBF5DB3D7#32
  | 48 => 0xBF000000#32
  | 49 => 0xA553C9CA#32
  | 50 => 0x3F000000#32
  | 51 => 0x3F5DB3D7#32
  | 52 => 0x3F800000#32
  | 53 => 0x3F5DB3D7#32
  | 54 => 0x3F000000#32
  | 55 => 0x248D3132#32
  | 56 => 0xBF000000#32
  | 57 => 0xBF5DB3D7#32
  | 58 => 0xBF800000#32
  | 59 => 0xBF5DB3D7#32
  | 60 => 0xBF000000#32
  | 61 => 0xA553C9CA#32
  | 62 => 0x3F000000#32
  | 63 => 0x3F5DB3D7#32
  | 64 => 0x3F800000#32
  | 65 => 0x3F5DB3D7#32
  | 66 => 0x3F000000#32
  | 67 => 0x248D3132#32
  | 68 => 0xBF000000#32
  | 69 => 0xBF5DB3D7#32
  | 70 => 0xBF800000#32
  | 71 => 0xBF5DB3D7#32
  | 72 => 0xBF000000#32
  | 73 => 0xA553C9CA#32
  | 74 => 0x3F000000#32
  | 75 => 0x3F5DB3D7#32
  | 76 => 0x3F800000#32
  | 77 => 0x3F5DB3D7#32
  | 78 => 0x3F000000#32
  | 79 => 0x248D3132#32
  | 80 => 0xBF000000#32
  | 81 => 0xBF5DB3D7#32
  | 82 => 0xBF800000#32
  | 83 => 0xBF5DB3D7#32
  | 84 => 0xBF000000#32
  | 85 => 0xA553C9CA#32
  | 86 => 0x3F000000#32
  | 87 => 0x3F5DB3D7#32
  | 88 => 0x3F800000#32
  | 89 => 0x3F5DB3D7#32
  | 90 => 0x3F000000#32
  | 91 => 0x248D3132#32
  | 92 => 0xBF000000#32
  | 93 => 0xBF5DB3D7#32
  | 94 => 0xBF800000#32
  | 95 => 0xBF5DB3D7#32
  | 96 => 0xBF000000#32
  | 97 => 0xA553C9CA#32
  | 98 => 0x3F000000#32
  | 99 => 0x3F5DB3D7#32
  | 100 => 0x3F800000#32
  | 101 => 0x3F5DB3D7#32
  | 102 => 0x3F000000#32
  | 103 => 0x248D3132#32
  | 104 => 0xBF000000#32
  | 105 => 0xBF5DB3D7#32
  | 106 => 0xBF800000#32
  | 107 => 0xBF5DB3D7#32
  | 108 => 0xBF000000#32
  | 109 => 0xA553C9CA#32
  | 110 => 0x3F000000#32
  | 111 => 0x3F5DB3D7#32
  | 112 => 0x3F800000#32
  | 113 => 0x3F5DB3D7#32
  | 114 => 0x3F000000#32
  | 115 => 0x248D3132#32
  | 116 => 0xBF000000#32
  | 117 => 0xBF5DB3D7#32
  | 118 => 0xBF800000#32
  | 119 => 0xBF5DB3D7#32
  | 120 => 0xBF000000#32
  | 121 => 0xA553C9CA#32
  | 122 => 0x3F000000#32
  | 123 => 0x3F5DB3D7#32
  | 124 => 0x3F800000#32
  | 125 => 0x3F5DB3D7#32
  | 126 => 0x3F000000#32
  | 127 => 0x248D3132#32
  | _ => 0#32

noncomputable abbrev lit0t0_56 (i : Nat) : BitVec 32 := match i % 128 with
  | 0 => 0xBF000000#32
  | 1 => 0xBF5DB3D7#32
  | 2 => 0xBF800000#32
  | 3 => 0xBF5DB3D7#32
  | 4 => 0xBF000000#32
  | 5 => 0xA553C9CA#32
  | 6 => 0x3F000000#32
  | 7 => 0x3F5DB3D7#32
  | 8 => 0x3F800000#32
  | 9 => 0x3F5DB3D7#32
  | 10 => 0x3F000000#32
  | 11 => 0x248D3132#32
  | 12 => 0xBF000000#32
  | 13 => 0xBF5DB3D7#32
  | 14 => 0xBF800000#32
  | 15 => 0xBF5DB3D7#32
  | 16 => 0xBF000000#32
  | 17 => 0xA553C9CA#32
  | 18 => 0x3F000000#32
  | 19 => 0x3F5DB3D7#32
  | 20 => 0x3F800000#32
  | 21 => 0x3F5DB3D7#32
  | 22 => 0x3F000000#32
  | 23 => 0x248D3132#32
  | 24 => 0xBF000000#32
  | 25 => 0xBF5DB3D7#32
  | 26 => 0xBF800000#32
  | 27 => 0xBF5DB3D7#32
  | 28 => 0xBF000000#32
  | 29 => 0xA553C9CA#32
  | 30 => 0x3F000000#32
  | 31 => 0x3F5DB3D7#32
  | 32 => 0x3F800000#32
  | 33 => 0x3F5ADB81#32
  | 34 => 0x3EEC6A50#32
  | 35 => 0xBD85F213#32
  | 36 => 0xBF12D5E8#32
  | 37 => 0xBF6A51DA#32
  | 38 => 0xBF7DCF55#32
  | 39 => 0xBF47A682#32
  | 40 => 0xBEAF1D44#32
  | 41 => 0x3E47C5C2#32
  | 42 => 0x3F2CF37B#32
  | 43 => 0x3F75C5D4#32
  | 44 => 0x3F7746EA#32
  | 45 => 0x3F310700#32
  | 46 => 0x3E5DA259#32
  | 47 => 0xBEA493B7#32
  | 48 => 0xBF441B7D#32
  | 49 => 0xBF7D0543#32
  | 50 => 0xBF6C835E#32
  | 51 => 0xBF176012#32
  | 52 => 0xBDB27EB6#32
  | 53 => 0x3EE273AA#32
  | 54 => 0x3F57E880#32
  | 55 => 0x3F7FF067#32
  | 56 => 0x3F5DB3D7#32
  | 57 => 0x3EF64429#32
  | 58 => 0xBD32AA3E#32
  | 59 => 0xBF0E39DA#32
  | 60 => 0xBF6803CA#32
  | 61 => 0xBF7E7A7A#32
  | 62 => 0xBF4B1934#32
  | 63 => 0xBEB9917B#32
  | 64 => 0x3E31D0D4#32
  | 65 => 0x3F28CAE3#32
  | 66 => 0x3F7426CB#32
  | 67 => 0x3F78A9E0#32
  | 68 => 0x3F3504F3#32
  | 69 => 0x3E7363EE#32
  | 70 => 0xBE99F61C#32
  | 71 => 0xBF407893#32
  | 72 => 0xBF7C1C5C#32
  | 73 => 0xBF6E9811#32
  | 74 => 0xBF1BD7CA#32
  | 75 => 0xBDDEF599#32
  | 76 => 0x3ED8616C#32
  | 77 => 0x3F54DB31#32
  | 78 => 0x3F7FC1A0#32
  | 79 => 0x3F60712A#32
  | 80 => 0x3F000000#32
  | 81 => 0xBCB2B521#32
  | 82 => 0xBF098C78#32
  | 83 => 0xBF659974#32
  | 84 => 0xBF7F069E#32
  | 85 => 0xBF4E7327#32
  | 86 => 0xBEC3EF15#32
  | 87 => 0x3E1BC63C#32
  | 88 => 0x3F248DBB#32
  | 89 => 0x3F726A03#32
  | 90 => 0x3F79EE89#32
  | 91 => 0x3F38ECD8#32
  | 92 => 0x3E8483EE#32
  | 93 => 0xBE8F45C0#32
  | 94 => 0xBF3CBE35#32
  | 95 => 0xBF7B14BE#32
  | 96 => 0xBF708FB2#32
  | 97 => 0xBF203C85#32
  | 98 => 0xBE05A8A8#32
  | 99 => 0x3ECE34D0#32
  | 100 => 0x3F51B3F3#32
  | 101 => 0x3F7F73AF#32
  | 102 => 0x3F631324#32
  | 103 => 0x3F04CE53#32
  | 104 => 0x248D3132#32
  | 105 => 0xBF04CE53#32
  | 106 => 0xBF631324#32
  | 107 => 0xBF7F73AF#32
  | 108 => 0xBF51B3F3#32
  | 109 => 0xBECE34D0#32
  | 110 => 0x3E05A8A8#32
  | 111 => 0x3F203C85#32
  | 112 => 0x3F708FB2#32
  | 113 => 0x3F7B14BE#32
  | 114 => 0x3F3CBE35#32
  | 115 => 0x3E8F45C0#32
  | 116 => 0xBE8483EE#32
  | 117 => 0xBF38ECD8#32
  | 118 => 0xBF79EE89#32
  | 119 => 0xBF726A03#32
  | 120 => 0xBF248DBB#32
  | 121 => 0xBE1BC63C#32
  | 122 => 0x3EC3EF15#32
  | 123 => 0x3F4E7327#32
  | 124 => 0x3F7F069E#32
  | 125 => 0x3F659974#32
  | 126 => 0x3F098C78#32
  | 127 => 0x3CB2B521#32
  | _ => 0#32

noncomputable abbrev lit0t0_57 (i : Nat) : BitVec 32 := match i % 128 with
  | 0 => 0xBF000000#32
  | 1 => 0xBF60712A#32
  | 2 => 0xBF7FC1A0#32
  | 3 => 0xBF54DB31#32
  | 4 => 0xBED8616C#32
  | 5 => 0x3DDEF599#32
  | 6 => 0x3F1BD7CA#32
  | 7 => 0x3F6E9811#32
  | 8 => 0x3F7C1C5C#32
  | 9 => 0x3F407893#32
  | 10 => 0x3E99F61C#32
  | 11 => 0xBE7363EE#32
  | 12 => 0xBF3504F3#32
  | 13 => 0xBF78A9E0#32
  | 14 => 0xBF7426CB#32
  | 15 => 0xBF28CAE3#32
  | 16 => 0xBE31D0D4#32
  | 17 => 0x3EB9917B#32
  | 18 => 0x3F4B1934#32
  | 19 => 0x3F7E7A7A#32
  | 20 => 0x3F6803CA#32
  | 21 => 0x3F0E39DA#32
  | 22 => 0x3D32AA3E#32
  | 23 => 0xBEF64429#32
  | 24 => 0xBF5DB3D7#32
  | 25 => 0xBF7FF067#32
  | 26 => 0xBF57E880#32
  | 27 => 0xBEE273AA#32
  | 28 => 0x3DB27EB6#32
  | 29 => 0x3F176012#32
  | 30 => 0x3F6C835E#32
  | 31 => 0x3F7D0543#32
  | 32 => 0x3F441B7D#32
  | 33 => 0x3EA493B7#32
  | 34 => 0xBE5DA259#32
  | 35 => 0xBF310700#32
  | 36 => 0xBF7746EA#32
  | 37 => 0xBF75C5D4#32
  | 38 => 0xBF2CF37B#32
  | 39 => 0xBE47C5C2#32
  | 40 => 0x3EAF1D44#32
  | 41 => 0x3F47A682#32
  | 42 => 0x3F7DCF55#32
  | 43 => 0x3F6A51DA#32
  | 44 => 0x3F12D5E8#32
  | 45 => 0x3D85F213#32
  | 46 => 0xBEEC6A50#32
  | 47 => 0xBF5ADB81#32
  | 48 => 0xBF800000#32
  | 49 => 0xBF5ADB81#32
  | 50 => 0xBEEC6A50#32
  | 51 => 0x3D85F213#32
  | 52 => 0x3F12D5E8#32
  | 53 => 0x3F6A51DA#32
  | 54 => 0x3F7DCF55#32
  | 55 => 0x3F47A682#32
  | 56 => 0x3EAF1D44#32
  | 57 => 0xBE47C5C2#32
  | 58 => 0xBF2CF37B#32
  | 59 => 0xBF75C5D4#32
  | 60 => 0xBF7746EA#32
  | 61 => 0xBF310700#32
  | 62 => 0xBE5DA259#32
  | 63 => 0x3EA493B7#32
  | 64 => 0x3F441B7D#32
  | 65 => 0x3F7D0543#32
  | 66 => 0x3F6C835E#32
  | 67 => 0x3F176012#32
  | 68 => 0x3DB27EB6#32
  | 69 => 0xBEE273AA#32
  | 70 => 0xBF57E880#32
  | 71 => 0xBF7FF067#32
  | 72 => 0xBF5DB3D7#32
  | 73 => 0xBEF64429#32
  | 74 => 0x3D32AA3E#32
  | 75 => 0x3F0E39DA#32
  | 76 => 0x3F6803CA#32
  | 77 => 0x3F7E7A7A#32
  | 78 => 0x3F4B1934#32
  | 79 => 0x3EB9917B#32
  | 80 => 0xBE31D0D4#32
  | 81 => 0xBF28CAE3#32
  | 82 => 0xBF7426CB#32
  | 83 => 0xBF78A9E0#32
  | 84 => 0xBF3504F3#32
  | 85 => 0xBE7363EE#32
  | 86 => 0x3E99F61C#32
  | 87 => 0x3F407893#32
  | 88 => 0x3F7C1C5C#32
  | 89 => 0x3F6E9811#32
  | 90 => 0x3F1BD7CA#32
  | 91 => 0x3DDEF599#32
  | 92 => 0xBED8616C#32
  | 93 => 0xBF54DB31#32
  | 94 => 0xBF7FC1A0#32
  | 95 => 0xBF60712A#32
  | 96 => 0xBF000000#32
  | 97 => 0x3CB2B521#32
  | 98 => 0x3F098C78#32
  | 99 => 0x3F659974#32
  | 100 => 0x3F7F069E#32
  | 101 => 0x3F4E7327#32
  | 102 => 0x3EC3EF15#32
  | 103 => 0xBE1BC63C#32
  | 104 => 0xBF248DBB#32
  | 105 => 0xBF726A03#32
  | 106 => 0xBF79EE89#32
  | 107 => 0xBF38ECD8#32
  | 108 => 0xBE8483EE#32
  | 109 => 0x3E8F45C0#32
  | 110 => 0x3F3CBE35#32
  | 111 => 0x3F7B14BE#32
  | 112 => 0x3F708FB2#32
  | 113 => 0x3F203C85#32
  | 114 => 0x3E05A8A8#32
  | 115 => 0xBECE34D0#32
  | 116 => 0xBF51B3F3#32
  | 117 => 0xBF7F73AF#32
  | 118 => 0xBF631324#32
  | 119 => 0xBF04CE53#32
  | 120 => 0xA553C9CA#32
  | 121 => 0x3F04CE53#32
  | 122 => 0x3F631324#32
  | 123 => 0x3F7F73AF#32
  | 124 => 0x3F51B3F3#32
  | 125 => 0x3ECE34D0#32
  | 126 => 0xBE05A8A8#32
  | 127 => 0xBF203C85#32
  | _ => 0#32

noncomputable abbrev lit0t0_58 (i : Nat) : BitVec 32 := match i % 128 with
  | 0 => 0xBF708FB2#32
  | 1 => 0xBF7B14BE#32
  | 2 => 0xBF3CBE35#32
  | 3 => 0xBE8F45C0#32
  | 4 => 0x3E8483EE#32
  | 5 => 0x3F38ECD8#32
  | 6 => 0x3F79EE89#32
  | 7 => 0x3F726A03#32
  | 8 => 0x3F248DBB#32
  | 9 => 0x3E1BC63C#32
  | 10 => 0xBEC3EF15#32
  | 11 => 0xBF4E7327#32
  | 12 => 0xBF7F069E#32
  | 13 => 0xBF659974#32
  | 14 => 0xBF098C78#32
  | 15 => 0xBCB2B521#32
  | 16 => 0x3F000000#32
  | 17 => 0x3F60712A#32
  | 18 => 0x3F7FC1A0#32
  | 19 => 0x3F54DB31#32
  | 20 => 0x3ED8616C#32
  | 21 => 0xBDDEF599#32
  | 22 => 0xBF1BD7CA#32
  | 23 => 0xBF6E9811#32
  | 24 => 0xBF7C1C5C#32
  | 25 => 0xBF407893#32
  | 26 => 0xBE99F61C#32
  | 27 => 0x3E7363EE#32
  | 28 => 0x3F3504F3#32
  | 29 => 0x3F78A9E0#32
  | 30 => 0x3F7426CB#32
  | 31 => 0x3F28CAE3#32
  | 32 => 0x3E31D0D4#32
  | 33 => 0xBEB9917B#32
  | 34 => 0xBF4B1934#32
  | 35 => 0xBF7E7A7A#32
  | 36 => 0xBF6803CA#32
  | 37 => 0xBF0E39DA#32
  | 38 => 0xBD32AA3E#32
  | 39 => 0x3EF64429#32
  | 40 => 0x3F5DB3D7#32
  | 41 => 0x3F7FF067#32
  | 42 => 0x3F57E880#32
  | 43 => 0x3EE273AA#32
  | 44 => 0xBDB27EB6#32
  | 45 => 0xBF176012#32
  | 46 => 0xBF6C835E#32
  | 47 => 0xBF7D0543#32
  | 48 => 0xBF441B7D#32
  | 49 => 0xBEA493B7#32
  | 50 => 0x3E5DA259#32
  | 51 => 0x3F310700#32
  | 52 => 0x3F7746EA#32
  | 53 => 0x3F75C5D4#32
  | 54 => 0x3F2CF37B#32
  | 55 => 0x3E47C5C2#32
  | 56 => 0xBEAF1D44#32
  | 57 => 0xBF47A682#32
  | 58 => 0xBF7DCF55#32
  | 59 => 0xBF6A51DA#32
  | 60 => 0xBF12D5E8#32
  | 61 => 0xBD85F213#32
  | 62 => 0x3EEC6A50#32
  | 63 => 0x3F5ADB81#32
  | 64 => 0x3F800000#32
  | 65 => 0x3F57E880#32
  | 66 => 0x3ED8616C#32
  | 67 => 0xBE05A8A8#32
  | 68 => 0xBF248DBB#32
  | 69 => 0xBF7426CB#32
  | 70 => 0xBF7746EA#32
  | 71 => 0xBF2CF37B#32
  | 72 => 0xBE31D0D4#32
  | 73 => 0x3EC3EF15#32
  | 74 => 0x3F51B3F3#32
  | 75 => 0x3F7FC1A0#32
  | 76 => 0x3F5DB3D7#32
  | 77 => 0x3EEC6A50#32
  | 78 => 0xBDB27EB6#32
  | 79 => 0xBF1BD7CA#32
  | 80 => 0xBF708FB2#32
  | 81 => 0xBF79EE89#32
  | 82 => 0xBF3504F3#32
  | 83 => 0xBE5DA259#32
  | 84 => 0x3EAF1D44#32
  | 85 => 0x3F4B1934#32
  | 86 => 0x3F7F069E#32
  | 87 => 0x3F631324#32
  | 88 => 0x3F000000#32
  | 89 => 0xBD32AA3E#32
  | 90 => 0xBF12D5E8#32
  | 91 => 0xBF6C835E#32
  | 92 => 0xBF7C1C5C#32
  | 93 => 0xBF3CBE35#32
  | 94 => 0xBE8483EE#32
  | 95 => 0x3E99F61C#32
  | 96 => 0x3F441B7D#32
  | 97 => 0x3F7DCF55#32
  | 98 => 0x3F6803CA#32
  | 99 => 0x3F098C78#32
  | 100 => 0x248D3132#32
  | 101 => 0xBF098C78#32
  | 102 => 0xBF6803CA#32
  | 103 => 0xBF7DCF55#32
  | 104 => 0xBF441B7D#32
  | 105 => 0xBE99F61C#32
  | 106 => 0x3E8483EE#32
  | 107 => 0x3F3CBE35#32
  | 108 => 0x3F7C1C5C#32
  | 109 => 0x3F6C835E#32
  | 110 => 0x3F12D5E8#32
  | 111 => 0x3D32AA3E#32
  | 112 => 0xBF000000#32
  | 113 => 0xBF631324#32
  | 114 => 0xBF7F069E#32
  | 115 => 0xBF4B1934#32
  | 116 => 0xBEAF1D44#32
  | 117 => 0x3E5DA259#32
  | 118 => 0x3F3504F3#32
  | 119 => 0x3F79EE89#32
  | 120 => 0x3F708FB2#32
  | 121 => 0x3F1BD7CA#32
  | 122 => 0x3DB27EB6#32
  | 123 => 0xBEEC6A50#32
  | 124 => 0xBF5DB3D7#32
  | 125 => 0xBF7FC1A0#32
  | 126 => 0xBF51B3F3#32
  | 127 => 0xBEC3EF15#32
  | _ => 0#32

noncomputable abbrev lit0t0_59 (i : Nat) : BitVec 32 := match i % 128 with
  | 0 => 0x3E31D0D4#32
  | 1 => 0x3F2CF37B#32
  | 2 => 0x3F7746EA#32
  | 3 => 0x3F7426CB#32
  | 4 => 0x3F248DBB#32
  | 5 => 0x3E05A8A8#32
  | 6 => 0xBED8616C#32
  | 7 => 0xBF57E880#32
  | 8 => 0xBF800000#32
  | 9 => 0xBF57E880#32
  | 10 => 0xBED8616C#32
  | 11 => 0x3E05A8A8#32
  | 12 => 0x3F248DBB#32
  | 13 => 0x3F7426CB#32
  | 14 => 0x3F7746EA#32
  | 15 => 0x3F2CF37B#32
  | 16 => 0x3E31D0D4#32
  | 17 => 0xBEC3EF15#32
  | 18 => 0xBF51B3F3#32
  | 19 => 0xBF7FC1A0#32
  | 20 => 0xBF5DB3D7#32
  | 21 => 0xBEEC6A50#32
  | 22 => 0x3DB27EB6#32
  | 23 => 0x3F1BD7CA#32
  | 24 => 0x3F708FB2#32
  | 25 => 0x3F79EE89#32
  | 26 => 0x3F3504F3#32
  | 27 => 0x3E5DA259#32
  | 28 => 0xBEAF1D44#32
  | 29 => 0xBF4B1934#32
  | 30 => 0xBF7F069E#32
  | 31 => 0xBF631324#32
  | 32 => 0xBF000000#32
  | 33 => 0x3D32AA3E#32
  | 34 => 0x3F12D5E8#32
  | 35 => 0x3F6C835E#32
  | 36 => 0x3F7C1C5C#32
  | 37 => 0x3F3CBE35#32
  | 38 => 0x3E8483EE#32
  | 39 => 0xBE99F61C#32
  | 40 => 0xBF441B7D#32
  | 41 => 0xBF7DCF55#32
  | 42 => 0xBF6803CA#32
  | 43 => 0xBF098C78#32
  | 44 => 0xA553C9CA#32
  | 45 => 0x3F098C78#32
  | 46 => 0x3F6803CA#32
  | 47 => 0x3F7DCF55#32
  | 48 => 0x3F441B7D#32
  | 49 => 0x3E99F61C#32
  | 50 => 0xBE8483EE#32
  | 51 => 0xBF3CBE35#32
  | 52 => 0xBF7C1C5C#32
  | 53 => 0xBF6C835E#32
  | 54 => 0xBF12D5E8#32
  | 55 => 0xBD32AA3E#32
  | 56 => 0x3F000000#32
  | 57 => 0x3F631324#32
  | 58 => 0x3F7F069E#32
  | 59 => 0x3F4B1934#32
  | 60 => 0x3EAF1D44#32
  | 61 => 0xBE5DA259#32
  | 62 => 0xBF3504F3#32
  | 63 => 0xBF79EE89#32
  | 64 => 0xBF708FB2#32
  | 65 => 0xBF1BD7CA#32
  | 66 => 0xBDB27EB6#32
  | 67 => 0x3EEC6A50#32
  | 68 => 0x3F5DB3D7#32
  | 69 => 0x3F7FC1A0#32
  | 70 => 0x3F51B3F3#32
  | 71 => 0x3EC3EF15#32
  | 72 => 0xBE31D0D4#32
  | 73 => 0xBF2CF37B#32
  | 74 => 0xBF7746EA#32
  | 75 => 0xBF7426CB#32
  | 76 => 0xBF248DBB#32
  | 77 => 0xBE05A8A8#32
  | 78 => 0x3ED8616C#32
  | 79 => 0x3F57E880#32
  | 80 => 0x3F800000#32
  | 81 => 0x3F57E880#32
  | 82 => 0x3ED8616C#32
  | 83 => 0xBE05A8A8#32
  | 84 => 0xBF248DBB#32
  | 85 => 0xBF7426CB#32
  | 86 => 0xBF7746EA#32
  | 87 => 0xBF2CF37B#32
  | 88 => 0xBE31D0D4#32
  | 89 => 0x3EC3EF15#32
  | 90 => 0x3F51B3F3#32
  | 91 => 0x3F7FC1A0#32
  | 92 => 0x3F5DB3D7#32
  | 93 => 0x3EEC6A50#32
  | 94 => 0xBDB27EB6#32
  | 95 => 0xBF1BD7CA#32
  | 96 => 0xBF708FB2#32
  | 97 => 0xBF79EE89#32
  | 98 => 0xBF3504F3#32
  | 99 => 0xBE5DA259#32
  | 100 => 0x3EAF1D44#32
  | 101 => 0x3F4B1934#32
  | 102 => 0x3F7F069E#32
  | 103 => 0x3F631324#32
  | 104 => 0x3F000000#32
  | 105 => 0xBD32AA3E#32
  | 106 => 0xBF12D5E8#32
  | 107 => 0xBF6C835E#32
  | 108 => 0xBF7C1C5C#32
  | 109 => 0xBF3CBE35#32
  | 110 => 0xBE8483EE#32
  | 111 => 0x3E99F61C#32
  | 112 => 0x3F441B7D#32
  | 113 => 0x3F7DCF55#32
  | 114 => 0x3F6803CA#32
  | 115 => 0x3F098C78#32
  | 116 => 0x248D3132#32
  | 117 => 0xBF098C78#32
  | 118 => 0xBF6803CA#32
  | 119 => 0xBF7DCF55#32
  | 120 => 0xBF441B7D#32
  | 121 => 0xBE99F61C#32
  | 122 => 0x3E8483EE#32
  | 123 => 0x3F3CBE35#32
  | 124 => 0x3F7C1C5C#32
  | 125 => 0x3F6C835E#32
  | 126 => 0x3F12D5E8#32
  | 127 => 0x3D32AA3E#32
  | _ => 0#32

noncomputable abbrev lit0t0_60 (i : Nat) : BitVec 32 := match i % 128 with
  | 0 => 0xBF000000#32
  | 1 => 0xBF631324#32
  | 2 => 0xBF7F069E#32
  | 3 => 0xBF4B1934#32
  | 4 => 0xBEAF1D44#32
  | 5 => 0x3E5DA259#32
  | 6 => 0x3F3504F3#32
  | 7 => 0x3F79EE89#32
  | 8 => 0x3F708FB2#32
  | 9 => 0x3F1BD7CA#32
  | 10 => 0x3DB27EB6#32
  | 11 => 0xBEEC6A50#32
  | 12 => 0xBF5DB3D7#32
  | 13 => 0xBF7FC1A0#32
  | 14 => 0xBF51B3F3#32
  | 15 => 0xBEC3EF15#32
  | 16 => 0x3E31D0D4#32
  | 17 => 0x3F2CF37B#32
  | 18 => 0x3F7746EA#32
  | 19 => 0x3F7426CB#32
  | 20 => 0x3F248DBB#32
  | 21 => 0x3E05A8A8#32
  | 22 => 0xBED8616C#32
  | 23 => 0xBF57E880#32
  | 24 => 0xBF800000#32
  | 25 => 0xBF57E880#32
  | 26 => 0xBED8616C#32
  | 27 => 0x3E05A8A8#32
  | 28 => 0x3F248DBB#32
  | 29 => 0x3F7426CB#32
  | 30 => 0x3F7746EA#32
  | 31 => 0x3F2CF37B#32
  | 32 => 0x3E31D0D4#32
  | 33 => 0xBEC3EF15#32
  | 34 => 0xBF51B3F3#32
  | 35 => 0xBF7FC1A0#32
  | 36 => 0xBF5DB3D7#32
  | 37 => 0xBEEC6A50#32
  | 38 => 0x3DB27EB6#32
  | 39 => 0x3F1BD7CA#32
  | 40 => 0x3F708FB2#32
  | 41 => 0x3F79EE89#32
  | 42 => 0x3F3504F3#32
  | 43 => 0x3E5DA259#32
  | 44 => 0xBEAF1D44#32
  | 45 => 0xBF4B1934#32
  | 46 => 0xBF7F069E#32
  | 47 => 0xBF631324#32
  | 48 => 0xBF000000#32
  | 49 => 0x3D32AA3E#32
  | 50 => 0x3F12D5E8#32
  | 51 => 0x3F6C835E#32
  | 52 => 0x3F7C1C5C#32
  | 53 => 0x3F3CBE35#32
  | 54 => 0x3E8483EE#32
  | 55 => 0xBE99F61C#32
  | 56 => 0xBF441B7D#32
  | 57 => 0xBF7DCF55#32
  | 58 => 0xBF6803CA#32
  | 59 => 0xBF098C78#32
  | 60 => 0xA553C9CA#32
  | 61 => 0x3F098C78#32
  | 62 => 0x3F6803CA#32
  | 63 => 0x3F7DCF55#32
  | 64 => 0x3F441B7D#32
  | 65 => 0x3E99F61C#32
  | 66 => 0xBE8483EE#32
  | 67 => 0xBF3CBE35#32
  | 68 => 0xBF7C1C5C#32
  | 69 => 0xBF6C835E#32
  | 70 => 0xBF12D5E8#32
  | 71 => 0xBD32AA3E#32
  | 72 => 0x3F000000#32
  | 73 => 0x3F631324#32
  | 74 => 0x3F7F069E#32
  | 75 => 0x3F4B1934#32
  | 76 => 0x3EAF1D44#32
  | 77 => 0xBE5DA259#32
  | 78 => 0xBF3504F3#32
  | 79 => 0xBF79EE89#32
  | 80 => 0xBF708FB2#32
  | 81 => 0xBF1BD7CA#32
  | 82 => 0xBDB27EB6#32
  | 83 => 0x3EEC6A50#32
  | 84 => 0x3F5DB3D7#32
  | 85 => 0x3F7FC1A0#32
  | 86 => 0x3F51B3F3#32
  | 87 => 0x3EC3EF15#32
  | 88 => 0xBE31D0D4#32
  | 89 => 0xBF2CF37B#32
  | 90 => 0xBF7746EA#32
  | 91 => 0xBF7426CB#32
  | 92 => 0xBF248DBB#32
  | 93 => 0xBE05A8A8#32
  | 94 => 0x3ED8616C#32
  | 95 => 0x3F57E880#32
  | 96 => 0x3F800000#32
  | 97 => 0x3F54DB31#32
  | 98 => 0x3EC3EF15#32
  | 99 => 0xBE47C5C2#32
  | 100 => 0xBF3504F3#32
  | 101 => 0xBF7B14BE#32
  | 102 => 0xBF6C835E#32
  | 103 => 0xBF0E39DA#32
  | 104 => 0xA553C9CA#32
  | 105 => 0x3F0E39DA#32
  | 106 => 0x3F6C835E#32
  | 107 => 0x3F7B14BE#32
  | 108 => 0x3F3504F3#32
  | 109 => 0x3E47C5C2#32
  | 110 => 0xBEC3EF15#32
  | 111 => 0xBF54DB31#32
  | 112 => 0xBF800000#32
  | 113 => 0xBF54DB31#32
  | 114 => 0xBEC3EF15#32
  | 115 => 0x3E47C5C2#32
  | 116 => 0x3F3504F3#32
  | 117 => 0x3F7B14BE#32
  | 118 => 0x3F6C835E#32
  | 119 => 0x3F0E39DA#32
  | 120 => 0x248D3132#32
  | 121 => 0xBF0E39DA#32
  | 122 => 0xBF6C835E#32
  | 123 => 0xBF7B14BE#32
  | 124 => 0xBF3504F3#32
  | 125 => 0xBE47C5C2#32
  | 126 => 0x3EC3EF15#32
  | 127 => 0x3F54DB31#32
  | _ => 0#32

noncomputable abbrev lit0t0_61 (i : Nat) : BitVec 32 := match i % 128 with
  | 0 => 0x3F800000#32
  | 1 => 0x3F54DB31#32
  | 2 => 0x3EC3EF15#32
  | 3 => 0xBE47C5C2#32
  | 4 => 0xBF3504F3#32
  | 5 => 0xBF7B14BE#32
  | 6 => 0xBF6C835E#32
  | 7 => 0xBF0E39DA#32
  | 8 => 0xA553C9CA#32
  | 9 => 0x3F0E39DA#32
  | 10 => 0x3F6C835E#32
  | 11 => 0x3F7B14BE#32
  | 12 => 0x3F3504F3#32
  | 13 => 0x3E47C5C2#32
  | 14 => 0xBEC3EF15#32
  | 15 => 0xBF54DB31#32
  | 16 => 0xBF800000#32
  | 17 => 0xBF54DB31#32
  | 18 => 0xBEC3EF15#32
  | 19 => 0x3E47C5C2#32
  | 20 => 0x3F3504F3#32
  | 21 => 0x3F7B14BE#32
  | 22 => 0x3F6C835E#32
  | 23 => 0x3F0E39DA#32
  | 24 => 0x248D3132#32
  | 25 => 0xBF0E39DA#32
  | 26 => 0xBF6C835E#32
  | 27 => 0xBF7B14BE#32
  | 28 => 0xBF3504F3#32
  | 29 => 0xBE47C5C2#32
  | 30 => 0x3EC3EF15#32
  | 31 => 0x3F54DB31#32
  | 32 => 0x3F800000#32
  | 33 => 0x3F54DB31#32
  | 34 => 0x3EC3EF15#32
  | 35 => 0xBE47C5C2#32
  | 36 => 0xBF3504F3#32
  | 37 => 0xBF7B14BE#32
  | 38 => 0xBF6C835E#32
  | 39 => 0xBF0E39DA#32
  | 40 => 0xA553C9CA#32
  | 41 => 0x3F0E39DA#32
  | 42 => 0x3F6C835E#32
  | 43 => 0x3F7B14BE#32
  | 44 => 0x3F3504F3#32
  | 45 => 0x3E47C5C2#32
  | 46 => 0xBEC3EF15#32
  | 47 => 0xBF54DB31#32
  | 48 => 0xBF800000#32
  | 49 => 0xBF54DB31#32
  | 50 => 0xBEC3EF15#32
  | 51 => 0x3E47C5C2#32
  | 52 => 0x3F3504F3#32
  | 53 => 0x3F7B14BE#32
  | 54 => 0x3F6C835E#32
  | 55 => 0x3F0E39DA#32
  | 56 => 0x248D3132#32
  | 57 => 0xBF0E39DA#32
  | 58 => 0xBF6C835E#32
  | 59 => 0xBF7B14BE#32
  | 60 => 0xBF3504F3#32
  | 61 => 0xBE47C5C2#32
  | 62 => 0x3EC3EF15#32
  | 63 => 0x3F54DB31#32
  | 64 => 0x3F800000#32
  | 65 => 0x3F54DB31#32
  | 66 => 0x3EC3EF15#32
  | 67 => 0xBE47C5C2#32
  | 68 => 0xBF3504F3#32
  | 69 => 0xBF7B14BE#32
  | 70 => 0xBF6C835E#32
  | 71 => 0xBF0E39DA#32
  | 72 => 0xA553C9CA#32
  | 73 => 0x3F0E39DA#32
  | 74 => 0x3F6C835E#32
  | 75 => 0x3F7B14BE#32
  | 76 => 0x3F3504F3#32
  | 77 => 0x3E47C5C2#32
  | 78 => 0xBEC3EF15#32
  | 79 => 0xBF54DB31#32
  | 80 => 0xBF800000#32
  | 81 => 0xBF54DB31#32
  | 82 => 0xBEC3EF15#32
  | 83 => 0x3E47C5C2#32
  | 84 => 0x3F3504F3#32
  | 85 => 0x3F7B14BE#32
  | 86 => 0x3F6C835E#32
  | 87 => 0x3F0E39DA#32
  | 88 => 0x248D3132#32
  | 89 => 0xBF0E39DA#32
  | 90 => 0xBF6C835E#32
  | 91 => 0xBF7B14BE#32
  | 92 => 0xBF3504F3#32
  | 93 => 0xBE47C5C2#32
  | 94 => 0x3EC3EF15#32
  | 95 => 0x3F54DB31#32
  | 96 => 0x3F800000#32
  | 97 => 0x3F54DB31#32
  | 98 => 0x3EC3EF15#32
  | 99 => 0xBE47C5C2#32
  | 100 => 0xBF3504F3#32
  | 101 => 0xBF7B14BE#32
  | 102 => 0xBF6C835E#32
  | 103 => 0xBF0E39DA#32
  | 104 => 0xA553C9CA#32
  | 105 => 0x3F0E39DA#32
  | 106 => 0x3F6C835E#32
  | 107 => 0x3F7B14BE#32
  | 108 => 0x3F3504F3#32
  | 109 => 0x3E47C5C2#32
  | 110 => 0xBEC3EF15#32
  | 111 => 0xBF54DB31#32
  | 112 => 0xBF800000#32
  | 113 => 0xBF54DB31#32
  | 114 => 0xBEC3EF15#32
  | 115 => 0x3E47C5C2#32
  | 116 => 0x3F3504F3#32
  | 117 => 0x3F7B14BE#32
  | 118 => 0x3F6C835E#32
  | 119 => 0x3F0E39DA#32
  | 120 => 0x248D3132#32
  | 121 => 0xBF0E39DA#32
  | 122 => 0xBF6C835E#32
  | 123 => 0xBF7B14BE#32
  | 124 => 0xBF3504F3#32
  | 125 => 0xBE47C5C2#32
  | 126 => 0x3EC3EF15#32
  | 127 => 0x3F54DB31#32
  | _ => 0#32

noncomputable abbrev lit0t0_62 (i : Nat) : BitVec 32 := match i % 128 with
  | 0 => 0x3F800000#32
  | 1 => 0x3F54DB31#32
  | 2 => 0x3EC3EF15#32
  | 3 => 0xBE47C5C2#32
  | 4 => 0xBF3504F3#32
  | 5 => 0xBF7B14BE#32
  | 6 => 0xBF6C835E#32
  | 7 => 0xBF0E39DA#32
  | 8 => 0xA553C9CA#32
  | 9 => 0x3F0E39DA#32
  | 10 => 0x3F6C835E#32
  | 11 => 0x3F7B14BE#32
  | 12 => 0x3F3504F3#32
  | 13 => 0x3E47C5C2#32
  | 14 => 0xBEC3EF15#32
  | 15 => 0xBF54DB31#32
  | 16 => 0xBF800000#32
  | 17 => 0xBF54DB31#32
  | 18 => 0xBEC3EF15#32
  | 19 => 0x3E47C5C2#32
  | 20 => 0x3F3504F3#32
  | 21 => 0x3F7B14BE#32
  | 22 => 0x3F6C835E#32
  | 23 => 0x3F0E39DA#32
  | 24 => 0x248D3132#32
  | 25 => 0xBF0E39DA#32
  | 26 => 0xBF6C835E#32
  | 27 => 0xBF7B14BE#32
  | 28 => 0xBF3504F3#32
  | 29 => 0xBE47C5C2#32
  | 30 => 0x3EC3EF15#32
  | 31 => 0x3F54DB31#32
  | 32 => 0x3F800000#32
  | 33 => 0x3F54DB31#32
  | 34 => 0x3EC3EF15#32
  | 35 => 0xBE47C5C2#32
  | 36 => 0xBF3504F3#32
  | 37 => 0xBF7B14BE#32
  | 38 => 0xBF6C835E#32
  | 39 => 0xBF0E39DA#32
  | 40 => 0xA553C9CA#32
  | 41 => 0x3F0E39DA#32
  | 42 => 0x3F6C835E#32
  | 43 => 0x3F7B14BE#32
  | 44 => 0x3F3504F3#32
  | 45 => 0x3E47C5C2#32
  | 46 => 0xBEC3EF15#32
  | 47 => 0xBF54DB31#32
  | 48 => 0xBF800000#32
  | 49 => 0xBF54DB31#32
  | 50 => 0xBEC3EF15#32
  | 51 => 0x3E47C5C2#32
  | 52 => 0x3F3504F3#32
  | 53 => 0x3F7B14BE#32
  | 54 => 0x3F6C835E#32
  | 55 => 0x3F0E39DA#32
  | 56 => 0x248D3132#32
  | 57 => 0xBF0E39DA#32
  | 58 => 0xBF6C835E#32
  | 59 => 0xBF7B14BE#32
  | 60 => 0xBF3504F3#32
  | 61 => 0xBE47C5C2#32
  | 62 => 0x3EC3EF15#32
  | 63 => 0x3F54DB31#32
  | 64 => 0x3F800000#32
  | 65 => 0x3F54DB31#32
  | 66 => 0x3EC3EF15#32
  | 67 => 0xBE47C5C2#32
  | 68 => 0xBF3504F3#32
  | 69 => 0xBF7B14BE#32
  | 70 => 0xBF6C835E#32
  | 71 => 0xBF0E39DA#32
  | 72 => 0xA553C9CA#32
  | 73 => 0x3F0E39DA#32
  | 74 => 0x3F6C835E#32
  | 75 => 0x3F7B14BE#32
  | 76 => 0x3F3504F3#32
  | 77 => 0x3E47C5C2#32
  | 78 => 0xBEC3EF15#32
  | 79 => 0xBF54DB31#32
  | 80 => 0xBF800000#32
  | 81 => 0xBF54DB31#32
  | 82 => 0xBEC3EF15#32
  | 83 => 0x3E47C5C2#32
  | 84 => 0x3F3504F3#32
  | 85 => 0x3F7B14BE#32
  | 86 => 0x3F6C835E#32
  | 87 => 0x3F0E39DA#32
  | 88 => 0x248D3132#32
  | 89 => 0xBF0E39DA#32
  | 90 => 0xBF6C835E#32
  | 91 => 0xBF7B14BE#32
  | 92 => 0xBF3504F3#32
  | 93 => 0xBE47C5C2#32
  | 94 => 0x3EC3EF15#32
  | 95 => 0x3F54DB31#32
  | 96 => 0x3F800000#32
  | 97 => 0x3F54DB31#32
  | 98 => 0x3EC3EF15#32
  | 99 => 0xBE47C5C2#32
  | 100 => 0xBF3504F3#32
  | 101 => 0xBF7B14BE#32
  | 102 => 0xBF6C835E#32
  | 103 => 0xBF0E39DA#32
  | 104 => 0xA553C9CA#32
  | 105 => 0x3F0E39DA#32
  | 106 => 0x3F6C835E#32
  | 107 => 0x3F7B14BE#32
  | 108 => 0x3F3504F3#32
  | 109 => 0x3E47C5C2#32
  | 110 => 0xBEC3EF15#32
  | 111 => 0xBF54DB31#32
  | 112 => 0xBF800000#32
  | 113 => 0xBF54DB31#32
  | 114 => 0xBEC3EF15#32
  | 115 => 0x3E47C5C2#32
  | 116 => 0x3F3504F3#32
  | 117 => 0x3F7B14BE#32
  | 118 => 0x3F6C835E#32
  | 119 => 0x3F0E39DA#32
  | 120 => 0x248D3132#32
  | 121 => 0xBF0E39DA#32
  | 122 => 0xBF6C835E#32
  | 123 => 0xBF7B14BE#32
  | 124 => 0xBF3504F3#32
  | 125 => 0xBE47C5C2#32
  | 126 => 0x3EC3EF15#32
  | 127 => 0x3F54DB31#32
  | _ => 0#32

noncomputable abbrev lit0t0_63 (i : Nat) : BitVec 32 := match i % 128 with
  | 0 => 0x3F800000#32
  | 1 => 0x3F51B3F3#32
  | 2 => 0x3EAF1D44#32
  | 3 => 0xBE8483EE#32
  | 4 => 0xBF441B7D#32
  | 5 => 0xBF7F069E#32
  | 6 => 0xBF5DB3D7#32
  | 7 => 0xBED8616C#32
  | 8 => 0x3E31D0D4#32
  | 9 => 0x3F3504F3#32
  | 10 => 0x3F7C1C5C#32
  | 11 => 0x3F6803CA#32
  | 12 => 0x3F000000#32
  | 13 => 0xBDB27EB6#32
  | 14 => 0xBF248DBB#32
  | 15 => 0xBF7746EA#32
  | 16 => 0xBF708FB2#32
  | 17 => 0xBF12D5E8#32
  | 18 => 0xA553C9CA#32
  | 19 => 0x3F12D5E8#32
  | 20 => 0x3F708FB2#32
  | 21 => 0x3F7746EA#32
  | 22 => 0x3F248DBB#32
  | 23 => 0x3DB27EB6#32
  | 24 => 0xBF000000#32
  | 25 => 0xBF6803CA#32
  | 26 => 0xBF7C1C5C#32
  | 27 => 0xBF3504F3#32
  | 28 => 0xBE31D0D4#32
  | 29 => 0x3ED8616C#32
  | 30 => 0x3F5DB3D7#32
  | 31 => 0x3F7F069E#32
  | 32 => 0x3F441B7D#32
  | 33 => 0x3E8483EE#32
  | 34 => 0xBEAF1D44#32
  | 35 => 0xBF51B3F3#32
  | 36 => 0xBF800000#32
  | 37 => 0xBF51B3F3#32
  | 38 => 0xBEAF1D44#32
  | 39 => 0x3E8483EE#32
  | 40 => 0x3F441B7D#32
  | 41 => 0x3F7F069E#32
  | 42 => 0x3F5DB3D7#32
  | 43 => 0x3ED8616C#32
  | 44 => 0xBE31D0D4#32
  | 45 => 0xBF3504F3#32
  | 46 => 0xBF7C1C5C#32
  | 47 => 0xBF6803CA#32
  | 48 => 0xBF000000#32
  | 49 => 0x3DB27EB6#32
  | 50 => 0x3F248DBB#32
  | 51 => 0x3F7746EA#32
  | 52 => 0x3F708FB2#32
  | 53 => 0x3F12D5E8#32
  | 54 => 0x248D3132#32
  | 55 => 0xBF12D5E8#32
  | 56 => 0xBF708FB2#32
  | 57 => 0xBF7746EA#32
  | 58 => 0xBF248DBB#32
  | 59 => 0xBDB27EB6#32
  | 60 => 0x3F000000#32
  | 61 => 0x3F6803CA#32
  | 62 => 0x3F7C1C5C#32
  | 63 => 0x3F3504F3#32
  | 64 => 0x3E31D0D4#32
  | 65 => 0xBED8616C#32
  | 66 => 0xBF5DB3D7#32
  | 67 => 0xBF7F069E#32
  | 68 => 0xBF441B7D#32
  | 69 => 0xBE8483EE#32
  | 70 => 0x3EAF1D44#32
  | 71 => 0x3F51B3F3#32
  | 72 => 0x3F800000#32
  | 73 => 0x3F51B3F3#32
  | 74 => 0x3EAF1D44#32
  | 75 => 0xBE8483EE#32
  | 76 => 0xBF441B7D#32
  | 77 => 0xBF7F069E#32
  | 78 => 0xBF5DB3D7#32
  | 79 => 0xBED8616C#32
  | 80 => 0x3E31D0D4#32
  | 81 => 0x3F3504F3#32
  | 82 => 0x3F7C1C5C#32
  | 83 => 0x3F6803CA#32
  | 84 => 0x3F000000#32
  | 85 => 0xBDB27EB6#32
  | 86 => 0xBF248DBB#32
  | 87 => 0xBF7746EA#32
  | 88 => 0xBF708FB2#32
  | 89 => 0xBF12D5E8#32
  | 90 => 0xA553C9CA#32
  | 91 => 0x3F12D5E8#32
  | 92 => 0x3F708FB2#32
  | 93 => 0x3F7746EA#32
  | 94 => 0x3F248DBB#32
  | 95 => 0x3DB27EB6#32
  | 96 => 0xBF000000#32
  | 97 => 0xBF6803CA#32
  | 98 => 0xBF7C1C5C#32
  | 99 => 0xBF3504F3#32
  | 100 => 0xBE31D0D4#32
  | 101 => 0x3ED8616C#32
  | 102 => 0x3F5DB3D7#32
  | 103 => 0x3F7F069E#32
  | 104 => 0x3F441B7D#32
  | 105 => 0x3E8483EE#32
  | 106 => 0xBEAF1D44#32
  | 107 => 0xBF51B3F3#32
  | 108 => 0xBF800000#32
  | 109 => 0xBF51B3F3#32
  | 110 => 0xBEAF1D44#32
  | 111 => 0x3E8483EE#32
  | 112 => 0x3F441B7D#32
  | 113 => 0x3F7F069E#32
  | 114 => 0x3F5DB3D7#32
  | 115 => 0x3ED8616C#32
  | 116 => 0xBE31D0D4#32
  | 117 => 0xBF3504F3#32
  | 118 => 0xBF7C1C5C#32
  | 119 => 0xBF6803CA#32
  | 120 => 0xBF000000#32
  | 121 => 0x3DB27EB6#32
  | 122 => 0x3F248DBB#32
  | 123 => 0x3F7746EA#32
  | 124 => 0x3F708FB2#32
  | 125 => 0x3F12D5E8#32
  | 126 => 0x248D3132#32
  | 127 => 0xBF12D5E8#32
  | _ => 0#32

noncomputable abbrev lit0t0_64 (i : Nat) : BitVec 32 := match i % 128 with
  | 0 => 0xBF708FB2#32
  | 1 => 0xBF7746EA#32
  | 2 => 0xBF248DBB#32
  | 3 => 0xBDB27EB6#32
  | 4 => 0x3F000000#32
  | 5 => 0x3F6803CA#32
  | 6 => 0x3F7C1C5C#32
  | 7 => 0x3F3504F3#32
  | 8 => 0x3E31D0D4#32
  | 9 => 0xBED8616C#32
  | 10 => 0xBF5DB3D7#32
  | 11 => 0xBF7F069E#32
  | 12 => 0xBF441B7D#32
  | 13 => 0xBE8483EE#32
  | 14 => 0x3EAF1D44#32
  | 15 => 0x3F51B3F3#32
  | 16 => 0x3F800000#32
  | 17 => 0x3F51B3F3#32
  | 18 => 0x3EAF1D44#32
  | 19 => 0xBE8483EE#32
  | 20 => 0xBF441B7D#32
  | 21 => 0xBF7F069E#32
  | 22 => 0xBF5DB3D7#32
  | 23 => 0xBED8616C#32
  | 24 => 0x3E31D0D4#32
  | 25 => 0x3F3504F3#32
  | 26 => 0x3F7C1C5C#32
  | 27 => 0x3F6803CA#32
  | 28 => 0x3F000000#32
  | 29 => 0xBDB27EB6#32
  | 30 => 0xBF248DBB#32
  | 31 => 0xBF7746EA#32
  | 32 => 0xBF708FB2#32
  | 33 => 0xBF12D5E8#32
  | 34 => 0xA553C9CA#32
  | 35 => 0x3F12D5E8#32
  | 36 => 0x3F708FB2#32
  | 37 => 0x3F7746EA#32
  | 38 => 0x3F248DBB#32
  | 39 => 0x3DB27EB6#32
  | 40 => 0xBF000000#32
  | 41 => 0xBF6803CA#32
  | 42 => 0xBF7C1C5C#32
  | 43 => 0xBF3504F3#32
  | 44 => 0xBE31D0D4#32
  | 45 => 0x3ED8616C#32
  | 46 => 0x3F5DB3D7#32
  | 47 => 0x3F7F069E#32
  | 48 => 0x3F441B7D#32
  | 49 => 0x3E8483EE#32
  | 50 => 0xBEAF1D44#32
  | 51 => 0xBF51B3F3#32
  | 52 => 0xBF800000#32
  | 53 => 0xBF51B3F3#32
  | 54 => 0xBEAF1D44#32
  | 55 => 0x3E8483EE#32
  | 56 => 0x3F441B7D#32
  | 57 => 0x3F7F069E#32
  | 58 => 0x3F5DB3D7#32
  | 59 => 0x3ED8616C#32
  | 60 => 0xBE31D0D4#32
  | 61 => 0xBF3504F3#32
  | 62 => 0xBF7C1C5C#32
  | 63 => 0xBF6803CA#32
  | 64 => 0xBF000000#32
  | 65 => 0x3DB27EB6#32
  | 66 => 0x3F248DBB#32
  | 67 => 0x3F7746EA#32
  | 68 => 0x3F708FB2#32
  | 69 => 0x3F12D5E8#32
  | 70 => 0x248D3132#32
  | 71 => 0xBF12D5E8#32
  | 72 => 0xBF708FB2#32
  | 73 => 0xBF7746EA#32
  | 74 => 0xBF248DBB#32
  | 75 => 0xBDB27EB6#32
  | 76 => 0x3F000000#32
  | 77 => 0x3F6803CA#32
  | 78 => 0x3F7C1C5C#32
  | 79 => 0x3F3504F3#32
  | 80 => 0x3E31D0D4#32
  | 81 => 0xBED8616C#32
  | 82 => 0xBF5DB3D7#32
  | 83 => 0xBF7F069E#32
  | 84 => 0xBF441B7D#32
  | 85 => 0xBE8483EE#32
  | 86 => 0x3EAF1D44#32
  | 87 => 0x3F51B3F3#32
  | 88 => 0x3F800000#32
  | 89 => 0x3F51B3F3#32
  | 90 => 0x3EAF1D44#32
  | 91 => 0xBE8483EE#32
  | 92 => 0xBF441B7D#32
  | 93 => 0xBF7F069E#32
  | 94 => 0xBF5DB3D7#32
  | 95 => 0xBED8616C#32
  | 96 => 0x3E31D0D4#32
  | 97 => 0x3F3504F3#32
  | 98 => 0x3F7C1C5C#32
  | 99 => 0x3F6803CA#32
  | 100 => 0x3F000000#32
  | 101 => 0xBDB27EB6#32
  | 102 => 0xBF248DBB#32
  | 103 => 0xBF7746EA#32
  | 104 => 0xBF708FB2#32
  | 105 => 0xBF12D5E8#32
  | 106 => 0xA553C9CA#32
  | 107 => 0x3F12D5E8#32
  | 108 => 0x3F708FB2#32
  | 109 => 0x3F7746EA#32
  | 110 => 0x3F248DBB#32
  | 111 => 0x3DB27EB6#32
  | 112 => 0xBF000000#32
  | 113 => 0xBF6803CA#32
  | 114 => 0xBF7C1C5C#32
  | 115 => 0xBF3504F3#32
  | 116 => 0xBE31D0D4#32
  | 117 => 0x3ED8616C#32
  | 118 => 0x3F5DB3D7#32
  | 119 => 0x3F7F069E#32
  | 120 => 0x3F441B7D#32
  | 121 => 0x3E8483EE#32
  | 122 => 0xBEAF1D44#32
  | 123 => 0xBF51B3F3#32
  | 124 => 0xBF800000#32
  | 125 => 0xBF51B3F3#32
  | 126 => 0xBEAF1D44#32
  | 127 => 0x3E8483EE#32
  | _ => 0#32

noncomputable abbrev lit0t0_65 (i : Nat) : BitVec 32 := match i % 128 with
  | 0 => 0x3F441B7D#32
  | 1 => 0x3F7F069E#32
  | 2 => 0x3F5DB3D7#32
  | 3 => 0x3ED8616C#32
  | 4 => 0xBE31D0D4#32
  | 5 => 0xBF3504F3#32
  | 6 => 0xBF7C1C5C#32
  | 7 => 0xBF6803CA#32
  | 8 => 0xBF000000#32
  | 9 => 0x3DB27EB6#32
  | 10 => 0x3F248DBB#32
  | 11 => 0x3F7746EA#32
  | 12 => 0x3F708FB2#32
  | 13 => 0x3F12D5E8#32
  | 14 => 0x248D3132#32
  | 15 => 0xBF12D5E8#32
  | 16 => 0xBF708FB2#32
  | 17 => 0xBF7746EA#32
  | 18 => 0xBF248DBB#32
  | 19 => 0xBDB27EB6#32
  | 20 => 0x3F000000#32
  | 21 => 0x3F6803CA#32
  | 22 => 0x3F7C1C5C#32
  | 23 => 0x3F3504F3#32
  | 24 => 0x3E31D0D4#32
  | 25 => 0xBED8616C#32
  | 26 => 0xBF5DB3D7#32
  | 27 => 0xBF7F069E#32
  | 28 => 0xBF441B7D#32
  | 29 => 0xBE8483EE#32
  | 30 => 0x3EAF1D44#32
  | 31 => 0x3F51B3F3#32
  | 32 => 0x3F800000#32
  | 33 => 0x3F4E7327#32
  | 34 => 0x3E99F61C#32
  | 35 => 0xBEA493B7#32
  | 36 => 0xBF51B3F3#32
  | 37 => 0xBF7FF067#32
  | 38 => 0xBF4B1934#32
  | 39 => 0xBE8F45C0#32
  | 40 => 0x3EAF1D44#32
  | 41 => 0x3F54DB31#32
  | 42 => 0x3F7FC1A0#32
  | 43 => 0x3F47A682#32
  | 44 => 0x3E8483EE#32
  | 45 => 0xBEB9917B#32
  | 46 => 0xBF57E880#32
  | 47 => 0xBF7F73AF#32
  | 48 => 0xBF441B7D#32
  | 49 => 0xBE7363EE#32
  | 50 => 0x3EC3EF15#32
  | 51 => 0x3F5ADB81#32
  | 52 => 0x3F7F069E#32
  | 53 => 0x3F407893#32
  | 54 => 0x3E5DA259#32
  | 55 => 0xBECE34D0#32
  | 56 => 0xBF5DB3D7#32
  | 57 => 0xBF7E7A7A#32
  | 58 => 0xBF3CBE35#32
  | 59 => 0xBE47C5C2#32
  | 60 => 0x3ED8616C#32
  | 61 => 0x3F60712A#32
  | 62 => 0x3F7DCF55#32
  | 63 => 0x3F38ECD8#32
  | 64 => 0x3E31D0D4#32
  | 65 => 0xBEE273AA#32
  | 66 => 0xBF631324#32
  | 67 => 0xBF7D0543#32
  | 68 => 0xBF3504F3#32
  | 69 => 0xBE1BC63C#32
  | 70 => 0x3EEC6A50#32
  | 71 => 0x3F659974#32
  | 72 => 0x3F7C1C5C#32
  | 73 => 0x3F310700#32
  | 74 => 0x3E05A8A8#32
  | 75 => 0xBEF64429#32
  | 76 => 0xBF6803CA#32
  | 77 => 0xBF7B14BE#32
  | 78 => 0xBF2CF37B#32
  | 79 => 0xBDDEF599#32
  | 80 => 0x3F000000#32
  | 81 => 0x3F6A51DA#32
  | 82 => 0x3F79EE89#32
  | 83 => 0x3F28CAE3#32
  | 84 => 0x3DB27EB6#32
  | 85 => 0xBF04CE53#32
  | 86 => 0xBF6C835E#32
  | 87 => 0xBF78A9E0#32
  | 88 => 0xBF248DBB#32
  | 89 => 0xBD85F213#32
  | 90 => 0x3F098C78#32
  | 91 => 0x3F6E9811#32
  | 92 => 0x3F7746EA#32
  | 93 => 0x3F203C85#32
  | 94 => 0x3D32AA3E#32
  | 95 => 0xBF0E39DA#32
  | 96 => 0xBF708FB2#32
  | 97 => 0xBF75C5D4#32
  | 98 => 0xBF1BD7CA#32
  | 99 => 0xBCB2B521#32
  | 100 => 0x3F12D5E8#32
  | 101 => 0x3F726A03#32
  | 102 => 0x3F7426CB#32
  | 103 => 0x3F176012#32
  | 104 => 0x248D3132#32
  | 105 => 0xBF176012#32
  | 106 => 0xBF7426CB#32
  | 107 => 0xBF726A03#32
  | 108 => 0xBF12D5E8#32
  | 109 => 0x3CB2B521#32
  | 110 => 0x3F1BD7CA#32
  | 111 => 0x3F75C5D4#32
  | 112 => 0x3F708FB2#32
  | 113 => 0x3F0E39DA#32
  | 114 => 0xBD32AA3E#32
  | 115 => 0xBF203C85#32
  | 116 => 0xBF7746EA#32
  | 117 => 0xBF6E9811#32
  | 118 => 0xBF098C78#32
  | 119 => 0x3D85F213#32
  | 120 => 0x3F248DBB#32
  | 121 => 0x3F78A9E0#32
  | 122 => 0x3F6C835E#32
  | 123 => 0x3F04CE53#32
  | 124 => 0xBDB27EB6#32
  | 125 => 0xBF28CAE3#32
  | 126 => 0xBF79EE89#32
  | 127 => 0xBF6A51DA#32
  | _ => 0#32

noncomputable abbrev lit0t0_66 (i : Nat) : BitVec 32 := match i % 128 with
  | 0 => 0xBF000000#32
  | 1 => 0x3DDEF599#32
  | 2 => 0x3F2CF37B#32
  | 3 => 0x3F7B14BE#32
  | 4 => 0x3F6803CA#32
  | 5 => 0x3EF64429#32
  | 6 => 0xBE05A8A8#32
  | 7 => 0xBF310700#32
  | 8 => 0xBF7C1C5C#32
  | 9 => 0xBF659974#32
  | 10 => 0xBEEC6A50#32
  | 11 => 0x3E1BC63C#32
  | 12 => 0x3F3504F3#32
  | 13 => 0x3F7D0543#32
  | 14 => 0x3F631324#32
  | 15 => 0x3EE273AA#32
  | 16 => 0xBE31D0D4#32
  | 17 => 0xBF38ECD8#32
  | 18 => 0xBF7DCF55#32
  | 19 => 0xBF60712A#32
  | 20 => 0xBED8616C#32
  | 21 => 0x3E47C5C2#32
  | 22 => 0x3F3CBE35#32
  | 23 => 0x3F7E7A7A#32
  | 24 => 0x3F5DB3D7#32
  | 25 => 0x3ECE34D0#32
  | 26 => 0xBE5DA259#32
  | 27 => 0xBF407893#32
  | 28 => 0xBF7F069E#32
  | 29 => 0xBF5ADB81#32
  | 30 => 0xBEC3EF15#32
  | 31 => 0x3E7363EE#32
  | 32 => 0x3F441B7D#32
  | 33 => 0x3F7F73AF#32
  | 34 => 0x3F57E880#32
  | 35 => 0x3EB9917B#32
  | 36 => 0xBE8483EE#32
  | 37 => 0xBF47A682#32
  | 38 => 0xBF7FC1A0#32
  | 39 => 0xBF54DB31#32
  | 40 => 0xBEAF1D44#32
  | 41 => 0x3E8F45C0#32
  | 42 => 0x3F4B1934#32
  | 43 => 0x3F7FF067#32
  | 44 => 0x3F51B3F3#32
  | 45 => 0x3EA493B7#32
  | 46 => 0xBE99F61C#32
  | 47 => 0xBF4E7327#32
  | 48 => 0xBF800000#32
  | 49 => 0xBF4E7327#32
  | 50 => 0xBE99F61C#32
  | 51 => 0x3EA493B7#32
  | 52 => 0x3F51B3F3#32
  | 53 => 0x3F7FF067#32
  | 54 => 0x3F4B1934#32
  | 55 => 0x3E8F45C0#32
  | 56 => 0xBEAF1D44#32
  | 57 => 0xBF54DB31#32
  | 58 => 0xBF7FC1A0#32
  | 59 => 0xBF47A682#32
  | 60 => 0xBE8483EE#32
  | 61 => 0x3EB9917B#32
  | 62 => 0x3F57E880#32
  | 63 => 0x3F7F73AF#32
  | 64 => 0x3F441B7D#32
  | 65 => 0x3E7363EE#32
  | 66 => 0xBEC3EF15#32
  | 67 => 0xBF5ADB81#32
  | 68 => 0xBF7F069E#32
  | 69 => 0xBF407893#32
  | 70 => 0xBE5DA259#32
  | 71 => 0x3ECE34D0#32
  | 72 => 0x3F5DB3D7#32
  | 73 => 0x3F7E7A7A#32
  | 74 => 0x3F3CBE35#32
  | 75 => 0x3E47C5C2#32
  | 76 => 0xBED8616C#32
  | 77 => 0xBF60712A#32
  | 78 => 0xBF7DCF55#32
  | 79 => 0xBF38ECD8#32
  | 80 => 0xBE31D0D4#32
  | 81 => 0x3EE273AA#32
  | 82 => 0x3F631324#32
  | 83 => 0x3F7D0543#32
  | 84 => 0x3F3504F3#32
  | 85 => 0x3E1BC63C#32
  | 86 => 0xBEEC6A50#32
  | 87 => 0xBF659974#32
  | 88 => 0xBF7C1C5C#32
  | 89 => 0xBF310700#32
  | 90 => 0xBE05A8A8#32
  | 91 => 0x3EF64429#32
  | 92 => 0x3F6803CA#32
  | 93 => 0x3F7B14BE#32
  | 94 => 0x3F2CF37B#32
  | 95 => 0x3DDEF599#32
  | 96 => 0xBF000000#32
  | 97 => 0xBF6A51DA#32
  | 98 => 0xBF79EE89#32
  | 99 => 0xBF28CAE3#32
  | 100 => 0xBDB27EB6#32
  | 101 => 0x3F04CE53#32
  | 102 => 0x3F6C835E#32
  | 103 => 0x3F78A9E0#32
  | 104 => 0x3F248DBB#32
  | 105 => 0x3D85F213#32
  | 106 => 0xBF098C78#32
  | 107 => 0xBF6E9811#32
  | 108 => 0xBF7746EA#32
  | 109 => 0xBF203C85#32
  | 110 => 0xBD32AA3E#32
  | 111 => 0x3F0E39DA#32
  | 112 => 0x3F708FB2#32
  | 113 => 0x3F75C5D4#32
  | 114 => 0x3F1BD7CA#32
  | 115 => 0x3CB2B521#32
  | 116 => 0xBF12D5E8#32
  | 117 => 0xBF726A03#32
  | 118 => 0xBF7426CB#32
  | 119 => 0xBF176012#32
  | 120 => 0xA553C9CA#32
  | 121 => 0x3F176012#32
  | 122 => 0x3F7426CB#32
  | 123 => 0x3F726A03#32
  | 124 => 0x3F12D5E8#32
  | 125 => 0xBCB2B521#32
  | 126 => 0xBF1BD7CA#32
  | 127 => 0xBF75C5D4#32
  | _ => 0#32

noncomputable abbrev lit0t0_67 (i : Nat) : BitVec 32 := match i % 128 with
  | 0 => 0xBF708FB2#32
  | 1 => 0xBF0E39DA#32
  | 2 => 0x3D32AA3E#32
  | 3 => 0x3F203C85#32
  | 4 => 0x3F7746EA#32
  | 5 => 0x3F6E9811#32
  | 6 => 0x3F098C78#32
  | 7 => 0xBD85F213#32
  | 8 => 0xBF248DBB#32
  | 9 => 0xBF78A9E0#32
  | 10 => 0xBF6C835E#32
  | 11 => 0xBF04CE53#32
  | 12 => 0x3DB27EB6#32
  | 13 => 0x3F28CAE3#32
  | 14 => 0x3F79EE89#32
  | 15 => 0x3F6A51DA#32
  | 16 => 0x3F000000#32
  | 17 => 0xBDDEF599#32
  | 18 => 0xBF2CF37B#32
  | 19 => 0xBF7B14BE#32
  | 20 => 0xBF6803CA#32
  | 21 => 0xBEF64429#32
  | 22 => 0x3E05A8A8#32
  | 23 => 0x3F310700#32
  | 24 => 0x3F7C1C5C#32
  | 25 => 0x3F659974#32
  | 26 => 0x3EEC6A50#32
  | 27 => 0xBE1BC63C#32
  | 28 => 0xBF3504F3#32
  | 29 => 0xBF7D0543#32
  | 30 => 0xBF631324#32
  | 31 => 0xBEE273AA#32
  | 32 => 0x3E31D0D4#32
  | 33 => 0x3F38ECD8#32
  | 34 => 0x3F7DCF55#32
  | 35 => 0x3F60712A#32
  | 36 => 0x3ED8616C#32
  | 37 => 0xBE47C5C2#32
  | 38 => 0xBF3CBE35#32
  | 39 => 0xBF7E7A7A#32
  | 40 => 0xBF5DB3D7#32
  | 41 => 0xBECE34D0#32
  | 42 => 0x3E5DA259#32
  | 43 => 0x3F407893#32
  | 44 => 0x3F7F069E#32
  | 45 => 0x3F5ADB81#32
  | 46 => 0x3EC3EF15#32
  | 47 => 0xBE7363EE#32
  | 48 => 0xBF441B7D#32
  | 49 => 0xBF7F73AF#32
  | 50 => 0xBF57E880#32
  | 51 => 0xBEB9917B#32
  | 52 => 0x3E8483EE#32
  | 53 => 0x3F47A682#32
  | 54 => 0x3F7FC1A0#32
  | 55 => 0x3F54DB31#32
  | 56 => 0x3EAF1D44#32
  | 57 => 0xBE8F45C0#32
  | 58 => 0xBF4B1934#32
  | 59 => 0xBF7FF067#32
  | 60 => 0xBF51B3F3#32
  | 61 => 0xBEA493B7#32
  | 62 => 0x3E99F61C#32
  | 63 => 0x3F4E7327#32
  | 64 => 0x3F800000#32
  | 65 => 0x3F4B1934#32
  | 66 => 0x3E8483EE#32
  | 67 => 0xBEC3EF15#32
  | 68 => 0xBF5DB3D7#32
  | 69 => 0xBF7DCF55#32
  | 70 => 0xBF3504F3#32
  | 71 => 0xBE05A8A8#32
  | 72 => 0x3F000000#32
  | 73 => 0x3F6C835E#32
  | 74 => 0x3F7746EA#32
  | 75 => 0x3F1BD7CA#32
  | 76 => 0x248D3132#32
  | 77 => 0xBF1BD7CA#32
  | 78 => 0xBF7746EA#32
  | 79 => 0xBF6C835E#32
  | 80 => 0xBF000000#32
  | 81 => 0x3E05A8A8#32
  | 82 => 0x3F3504F3#32
  | 83 => 0x3F7DCF55#32
  | 84 => 0x3F5DB3D7#32
  | 85 => 0x3EC3EF15#32
  | 86 => 0xBE8483EE#32
  | 87 => 0xBF4B1934#32
  | 88 => 0xBF800000#32
  | 89 => 0xBF4B1934#32
  | 90 => 0xBE8483EE#32
  | 91 => 0x3EC3EF15#32
  | 92 => 0x3F5DB3D7#32
  | 93 => 0x3F7DCF55#32
  | 94 => 0x3F3504F3#32
  | 95 => 0x3E05A8A8#32
  | 96 => 0xBF000000#32
  | 97 => 0xBF6C835E#32
  | 98 => 0xBF7746EA#32
  | 99 => 0xBF1BD7CA#32
  | 100 => 0xA553C9CA#32
  | 101 => 0x3F1BD7CA#32
  | 102 => 0x3F7746EA#32
  | 103 => 0x3F6C835E#32
  | 104 => 0x3F000000#32
  | 105 => 0xBE05A8A8#32
  | 106 => 0xBF3504F3#32
  | 107 => 0xBF7DCF55#32
  | 108 => 0xBF5DB3D7#32
  | 109 => 0xBEC3EF15#32
  | 110 => 0x3E8483EE#32
  | 111 => 0x3F4B1934#32
  | 112 => 0x3F800000#32
  | 113 => 0x3F4B1934#32
  | 114 => 0x3E8483EE#32
  | 115 => 0xBEC3EF15#32
  | 116 => 0xBF5DB3D7#32
  | 117 => 0xBF7DCF55#32
  | 118 => 0xBF3504F3#32
  | 119 => 0xBE05A8A8#32
  | 120 => 0x3F000000#32
  | 121 => 0x3F6C835E#32
  | 122 => 0x3F7746EA#32
  | 123 => 0x3F1BD7CA#32
  | 124 => 0x248D3132#32
  | 125 => 0xBF1BD7CA#32
  | 126 => 0xBF7746EA#32
  | 127 => 0xBF6C835E#32
  | _ => 0#32

noncomputable abbrev lit0t0_68 (i : Nat) : BitVec 32 := match i % 128 with
  | 0 => 0xBF000000#32
  | 1 => 0x3E05A8A8#32
  | 2 => 0x3F3504F3#32
  | 3 => 0x3F7DCF55#32
  | 4 => 0x3F5DB3D7#32
  | 5 => 0x3EC3EF15#32
  | 6 => 0xBE8483EE#32
  | 7 => 0xBF4B1934#32
  | 8 => 0xBF800000#32
  | 9 => 0xBF4B1934#32
  | 10 => 0xBE8483EE#32
  | 11 => 0x3EC3EF15#32
  | 12 => 0x3F5DB3D7#32
  | 13 => 0x3F7DCF55#32
  | 14 => 0x3F3504F3#32
  | 15 => 0x3E05A8A8#32
  | 16 => 0xBF000000#32
  | 17 => 0xBF6C835E#32
  | 18 => 0xBF7746EA#32
  | 19 => 0xBF1BD7CA#32
  | 20 => 0xA553C9CA#32
  | 21 => 0x3F1BD7CA#32
  | 22 => 0x3F7746EA#32
  | 23 => 0x3F6C835E#32
  | 24 => 0x3F000000#32
  | 25 => 0xBE05A8A8#32
  | 26 => 0xBF3504F3#32
  | 27 => 0xBF7DCF55#32
  | 28 => 0xBF5DB3D7#32
  | 29 => 0xBEC3EF15#32
  | 30 => 0x3E8483EE#32
  | 31 => 0x3F4B1934#32
  | 32 => 0x3F800000#32
  | 33 => 0x3F4B1934#32
  | 34 => 0x3E8483EE#32
  | 35 => 0xBEC3EF15#32
  | 36 => 0xBF5DB3D7#32
  | 37 => 0xBF7DCF55#32
  | 38 => 0xBF3504F3#32
  | 39 => 0xBE05A8A8#32
  | 40 => 0x3F000000#32
  | 41 => 0x3F6C835E#32
  | 42 => 0x3F7746EA#32
  | 43 => 0x3F1BD7CA#32
  | 44 => 0x248D3132#32
  | 45 => 0xBF1BD7CA#32
  | 46 => 0xBF7746EA#32
  | 47 => 0xBF6C835E#32
  | 48 => 0xBF000000#32
  | 49 => 0x3E05A8A8#32
  | 50 => 0x3F3504F3#32
  | 51 => 0x3F7DCF55#32
  | 52 => 0x3F5DB3D7#32
  | 53 => 0x3EC3EF15#32
  | 54 => 0xBE8483EE#32
  | 55 => 0xBF4B1934#32
  | 56 => 0xBF800000#32
  | 57 => 0xBF4B1934#32
  | 58 => 0xBE8483EE#32
  | 59 => 0x3EC3EF15#32
  | 60 => 0x3F5DB3D7#32
  | 61 => 0x3F7DCF55#32
  | 62 => 0x3F3504F3#32
  | 63 => 0x3E05A8A8#32
  | 64 => 0xBF000000#32
  | 65 => 0xBF6C835E#32
  | 66 => 0xBF7746EA#32
  | 67 => 0xBF1BD7CA#32
  | 68 => 0xA553C9CA#32
  | 69 => 0x3F1BD7CA#32
  | 70 => 0x3F7746EA#32
  | 71 => 0x3F6C835E#32
  | 72 => 0x3F000000#32
  | 73 => 0xBE05A8A8#32
  | 74 => 0xBF3504F3#32
  | 75 => 0xBF7DCF55#32
  | 76 => 0xBF5DB3D7#32
  | 77 => 0xBEC3EF15#32
  | 78 => 0x3E8483EE#32
  | 79 => 0x3F4B1934#32
  | 80 => 0x3F800000#32
  | 81 => 0x3F4B1934#32
  | 82 => 0x3E8483EE#32
  | 83 => 0xBEC3EF15#32
  | 84 => 0xBF5DB3D7#32
  | 85 => 0xBF7DCF55#32
  | 86 => 0xBF3504F3#32
  | 87 => 0xBE05A8A8#32
  | 88 => 0x3F000000#32
  | 89 => 0x3F6C835E#32
  | 90 => 0x3F7746EA#32
  | 91 => 0x3F1BD7CA#32
  | 92 => 0x248D3132#32
  | 93 => 0xBF1BD7CA#32
  | 94 => 0xBF7746EA#32
  | 95 => 0xBF6C835E#32
  | 96 => 0xBF000000#32
  | 97 => 0x3E05A8A8#32
  | 98 => 0x3F3504F3#32
  | 99 => 0x3F7DCF55#32
  | 100 => 0x3F5DB3D7#32
  | 101 => 0x3EC3EF15#32
  | 102 => 0xBE8483EE#32
  | 103 => 0xBF4B1934#32
  | 104 => 0xBF800000#32
  | 105 => 0xBF4B1934#32
  | 106 => 0xBE8483EE#32
  | 107 => 0x3EC3EF15#32
  | 108 => 0x3F5DB3D7#32
  | 109 => 0x3F7DCF55#32
  | 110 => 0x3F3504F3#32
  | 111 => 0x3E05A8A8#32
  | 112 => 0xBF000000#32
  | 113 => 0xBF6C835E#32
  | 114 => 0xBF7746EA#32
  | 115 => 0xBF1BD7CA#32
  | 116 => 0xA553C9CA#32
  | 117 => 0x3F1BD7CA#32
  | 118 => 0x3F7746EA#32
  | 119 => 0x3F6C835E#32
  | 120 => 0x3F000000#32
  | 121 => 0xBE05A8A8#32
  | 122 => 0xBF3504F3#32
  | 123 => 0xBF7DCF55#32
  | 124 => 0xBF5DB3D7#32
  | 125 => 0xBEC3EF15#32
  | 126 => 0x3E8483EE#32
  | 127 => 0x3F4B1934#32
  | _ => 0#32

noncomputable abbrev lit0t0_69 (i : Nat) : BitVec 32 := match i % 128 with
  | 0 => 0x3F800000#32
  | 1 => 0x3F4B1934#32
  | 2 => 0x3E8483EE#32
  | 3 => 0xBEC3EF15#32
  | 4 => 0xBF5DB3D7#32
  | 5 => 0xBF7DCF55#32
  | 6 => 0xBF3504F3#32
  | 7 => 0xBE05A8A8#32
  | 8 => 0x3F000000#32
  | 9 => 0x3F6C835E#32
  | 10 => 0x3F7746EA#32
  | 11 => 0x3F1BD7CA#32
  | 12 => 0x248D3132#32
  | 13 => 0xBF1BD7CA#32
  | 14 => 0xBF7746EA#32
  | 15 => 0xBF6C835E#32
  | 16 => 0xBF000000#32
  | 17 => 0x3E05A8A8#32
  | 18 => 0x3F3504F3#32
  | 19 => 0x3F7DCF55#32
  | 20 => 0x3F5DB3D7#32
  | 21 => 0x3EC3EF15#32
  | 22 => 0xBE8483EE#32
  | 23 => 0xBF4B1934#32
  | 24 => 0xBF800000#32
  | 25 => 0xBF4B1934#32
  | 26 => 0xBE8483EE#32
  | 27 => 0x3EC3EF15#32
  | 28 => 0x3F5DB3D7#32
  | 29 => 0x3F7DCF55#32
  | 30 => 0x3F3504F3#32
  | 31 => 0x3E05A8A8#32
  | 32 => 0xBF000000#32
  | 33 => 0xBF6C835E#32
  | 34 => 0xBF7746EA#32
  | 35 => 0xBF1BD7CA#32
  | 36 => 0xA553C9CA#32
  | 37 => 0x3F1BD7CA#32
  | 38 => 0x3F7746EA#32
  | 39 => 0x3F6C835E#32
  | 40 => 0x3F000000#32
  | 41 => 0xBE05A8A8#32
  | 42 => 0xBF3504F3#32
  | 43 => 0xBF7DCF55#32
  | 44 => 0xBF5DB3D7#32
  | 45 => 0xBEC3EF15#32
  | 46 => 0x3E8483EE#32
  | 47 => 0x3F4B1934#32
  | 48 => 0x3F800000#32
  | 49 => 0x3F4B1934#32
  | 50 => 0x3E8483EE#32
  | 51 => 0xBEC3EF15#32
  | 52 => 0xBF5DB3D7#32
  | 53 => 0xBF7DCF55#32
  | 54 => 0xBF3504F3#32
  | 55 => 0xBE05A8A8#32
  | 56 => 0x3F000000#32
  | 57 => 0x3F6C835E#32
  | 58 => 0x3F7746EA#32
  | 59 => 0x3F1BD7CA#32
  | 60 => 0x248D3132#32
  | 61 => 0xBF1BD7CA#32
  | 62 => 0xBF7746EA#32
  | 63 => 0xBF6C835E#32
  | 64 => 0xBF000000#32
  | 65 => 0x3E05A8A8#32
  | 66 => 0x3F3504F3#32
  | 67 => 0x3F7DCF55#32
  | 68 => 0x3F5DB3D7#32
  | 69 => 0x3EC3EF15#32
  | 70 => 0xBE8483EE#32
  | 71 => 0xBF4B1934#32
  | 72 => 0xBF800000#32
  | 73 => 0xBF4B1934#32
  | 74 => 0xBE8483EE#32
  | 75 => 0x3EC3EF15#32
  | 76 => 0x3F5DB3D7#32
  | 77 => 0x3F7DCF55#32
  | 78 => 0x3F3504F3#32
  | 79 => 0x3E05A8A8#32
  | 80 => 0xBF000000#32
  | 81 => 0xBF6C835E#32
  | 82 => 0xBF7746EA#32
  | 83 => 0xBF1BD7CA#32
  | 84 => 0xA553C9CA#32
  | 85 => 0x3F1BD7CA#32
  | 86 => 0x3F7746EA#32
  | 87 => 0x3F6C835E#32
  | 88 => 0x3F000000#32
  | 89 => 0xBE05A8A8#32
  | 90 => 0xBF3504F3#32
  | 91 => 0xBF7DCF55#32
  | 92 => 0xBF5DB3D7#32
  | 93 => 0xBEC3EF15#32
  | 94 => 0x3E8483EE#32
  | 95 => 0x3F4B1934#32
  | 96 => 0x3F800000#32
  | 97 => 0x3F47A682#32
  | 98 => 0x3E5DA259#32
  | 99 => 0xBEE273AA#32
  | 100 => 0xBF6803CA#32
  | 101 => 0xBF78A9E0#32
  | 102 => 0xBF1BD7CA#32
  | 103 => 0x3CB2B521#32
  | 104 => 0x3F248DBB#32
  | 105 => 0x3F7B14BE#32
  | 106 => 0x3F631324#32
  | 107 => 0x3ECE34D0#32
  | 108 => 0xBE8483EE#32
  | 109 => 0xBF4E7327#32
  | 110 => 0xBF7FC1A0#32
  | 111 => 0xBF407893#32
  | 112 => 0xBE31D0D4#32
  | 113 => 0x3EF64429#32
  | 114 => 0x3F6C835E#32
  | 115 => 0x3F75C5D4#32
  | 116 => 0x3F12D5E8#32
  | 117 => 0xBD85F213#32
  | 118 => 0xBF2CF37B#32
  | 119 => 0xBF7D0543#32
  | 120 => 0xBF5DB3D7#32
  | 121 => 0xBEB9917B#32
  | 122 => 0x3E99F61C#32
  | 123 => 0x3F54DB31#32
  | 124 => 0x3F7F069E#32
  | 125 => 0x3F38ECD8#32
  | 126 => 0x3E05A8A8#32
  | 127 => 0xBF04CE53#32
  | _ => 0#32

noncomputable abbrev lit0t0_70 (i : Nat) : BitVec 32 := match i % 128 with
  | 0 => 0xBF708FB2#32
  | 1 => 0xBF726A03#32
  | 2 => 0xBF098C78#32
  | 3 => 0x3DDEF599#32
  | 4 => 0x3F3504F3#32
  | 5 => 0x3F7E7A7A#32
  | 6 => 0x3F57E880#32
  | 7 => 0x3EA493B7#32
  | 8 => 0xBEAF1D44#32
  | 9 => 0xBF5ADB81#32
  | 10 => 0xBF7DCF55#32
  | 11 => 0xBF310700#32
  | 12 => 0xBDB27EB6#32
  | 13 => 0x3F0E39DA#32
  | 14 => 0x3F7426CB#32
  | 15 => 0x3F6E9811#32
  | 16 => 0x3F000000#32
  | 17 => 0xBE1BC63C#32
  | 18 => 0xBF3CBE35#32
  | 19 => 0xBF7F73AF#32
  | 20 => 0xBF51B3F3#32
  | 21 => 0xBE8F45C0#32
  | 22 => 0x3EC3EF15#32
  | 23 => 0x3F60712A#32
  | 24 => 0x3F7C1C5C#32
  | 25 => 0x3F28CAE3#32
  | 26 => 0x3D32AA3E#32
  | 27 => 0xBF176012#32
  | 28 => 0xBF7746EA#32
  | 29 => 0xBF6A51DA#32
  | 30 => 0xBEEC6A50#32
  | 31 => 0x3E47C5C2#32
  | 32 => 0x3F441B7D#32
  | 33 => 0x3F7FF067#32
  | 34 => 0x3F4B1934#32
  | 35 => 0x3E7363EE#32
  | 36 => 0xBED8616C#32
  | 37 => 0xBF659974#32
  | 38 => 0xBF79EE89#32
  | 39 => 0xBF203C85#32
  | 40 => 0xA553C9CA#32
  | 41 => 0x3F203C85#32
  | 42 => 0x3F79EE89#32
  | 43 => 0x3F659974#32
  | 44 => 0x3ED8616C#32
  | 45 => 0xBE7363EE#32
  | 46 => 0xBF4B1934#32
  | 47 => 0xBF7FF067#32
  | 48 => 0xBF441B7D#32
  | 49 => 0xBE47C5C2#32
  | 50 => 0x3EEC6A50#32
  | 51 => 0x3F6A51DA#32
  | 52 => 0x3F7746EA#32
  | 53 => 0x3F176012#32
  | 54 => 0xBD32AA3E#32
  | 55 => 0xBF28CAE3#32
  | 56 => 0xBF7C1C5C#32
  | 57 => 0xBF60712A#32
  | 58 => 0xBEC3EF15#32
  | 59 => 0x3E8F45C0#32
  | 60 => 0x3F51B3F3#32
  | 61 => 0x3F7F73AF#32
  | 62 => 0x3F3CBE35#32
  | 63 => 0x3E1BC63C#32
  | 64 => 0xBF000000#32
  | 65 => 0xBF6E9811#32
  | 66 => 0xBF7426CB#32
  | 67 => 0xBF0E39DA#32
  | 68 => 0x3DB27EB6#32
  | 69 => 0x3F310700#32
  | 70 => 0x3F7DCF55#32
  | 71 => 0x3F5ADB81#32
  | 72 => 0x3EAF1D44#32
  | 73 => 0xBEA493B7#32
  | 74 => 0xBF57E880#32
  | 75 => 0xBF7E7A7A#32
  | 76 => 0xBF3504F3#32
  | 77 => 0xBDDEF599#32
  | 78 => 0x3F098C78#32
  | 79 => 0x3F726A03#32
  | 80 => 0x3F708FB2#32
  | 81 => 0x3F04CE53#32
  | 82 => 0xBE05A8A8#32
  | 83 => 0xBF38ECD8#32
  | 84 => 0xBF7F069E#32
  | 85 => 0xBF54DB31#32
  | 86 => 0xBE99F61C#32
  | 87 => 0x3EB9917B#32
  | 88 => 0x3F5DB3D7#32
  | 89 => 0x3F7D0543#32
  | 90 => 0x3F2CF37B#32
  | 91 => 0x3D85F213#32
  | 92 => 0xBF12D5E8#32
  | 93 => 0xBF75C5D4#32
  | 94 => 0xBF6C835E#32
  | 95 => 0xBEF64429#32
  | 96 => 0x3E31D0D4#32
  | 97 => 0x3F407893#32
  | 98 => 0x3F7FC1A0#32
  | 99 => 0x3F4E7327#32
  | 100 => 0x3E8483EE#32
  | 101 => 0xBECE34D0#32
  | 102 => 0xBF631324#32
  | 103 => 0xBF7B14BE#32
  | 104 => 0xBF248DBB#32
  | 105 => 0xBCB2B521#32
  | 106 => 0x3F1BD7CA#32
  | 107 => 0x3F78A9E0#32
  | 108 => 0x3F6803CA#32
  | 109 => 0x3EE273AA#32
  | 110 => 0xBE5DA259#32
  | 111 => 0xBF47A682#32
  | 112 => 0xBF800000#32
  | 113 => 0xBF47A682#32
  | 114 => 0xBE5DA259#32
  | 115 => 0x3EE273AA#32
  | 116 => 0x3F6803CA#32
  | 117 => 0x3F78A9E0#32
  | 118 => 0x3F1BD7CA#32
  | 119 => 0xBCB2B521#32
  | 120 => 0xBF248DBB#32
  | 121 => 0xBF7B14BE#32
  | 122 => 0xBF631324#32
  | 123 => 0xBECE34D0#32
  | 124 => 0x3E8483EE#32
  | 125 => 0x3F4E7327#32
  | 126 => 0x3F7FC1A0#32
  | 127 => 0x3F407893#32
  | _ => 0#32

noncomputable abbrev lit0t0_71 (i : Nat) : BitVec 32 := match i % 128 with
  | 0 => 0x3E31D0D4#32
  | 1 => 0xBEF64429#32
  | 2 => 0xBF6C835E#32
  | 3 => 0xBF75C5D4#32
  | 4 => 0xBF12D5E8#32
  | 5 => 0x3D85F213#32
  | 6 => 0x3F2CF37B#32
  | 7 => 0x3F7D0543#32
  | 8 => 0x3F5DB3D7#32
  | 9 => 0x3EB9917B#32
  | 10 => 0xBE99F61C#32
  | 11 => 0xBF54DB31#32
  | 12 => 0xBF7F069E#32
  | 13 => 0xBF38ECD8#32
  | 14 => 0xBE05A8A8#32
  | 15 => 0x3F04CE53#32
  | 16 => 0x3F708FB2#32
  | 17 => 0x3F726A03#32
  | 18 => 0x3F098C78#32
  | 19 => 0xBDDEF599#32
  | 20 => 0xBF3504F3#32
  | 21 => 0xBF7E7A7A#32
  | 22 => 0xBF57E880#32
  | 23 => 0xBEA493B7#32
  | 24 => 0x3EAF1D44#32
  | 25 => 0x3F5ADB81#32
  | 26 => 0x3F7DCF55#32
  | 27 => 0x3F310700#32
  | 28 => 0x3DB27EB6#32
  | 29 => 0xBF0E39DA#32
  | 30 => 0xBF7426CB#32
  | 31 => 0xBF6E9811#32
  | 32 => 0xBF000000#32
  | 33 => 0x3E1BC63C#32
  | 34 => 0x3F3CBE35#32
  | 35 => 0x3F7F73AF#32
  | 36 => 0x3F51B3F3#32
  | 37 => 0x3E8F45C0#32
  | 38 => 0xBEC3EF15#32
  | 39 => 0xBF60712A#32
  | 40 => 0xBF7C1C5C#32
  | 41 => 0xBF28CAE3#32
  | 42 => 0xBD32AA3E#32
  | 43 => 0x3F176012#32
  | 44 => 0x3F7746EA#32
  | 45 => 0x3F6A51DA#32
  | 46 => 0x3EEC6A50#32
  | 47 => 0xBE47C5C2#32
  | 48 => 0xBF441B7D#32
  | 49 => 0xBF7FF067#32
  | 50 => 0xBF4B1934#32
  | 51 => 0xBE7363EE#32
  | 52 => 0x3ED8616C#32
  | 53 => 0x3F659974#32
  | 54 => 0x3F79EE89#32
  | 55 => 0x3F203C85#32
  | 56 => 0x248D3132#32
  | 57 => 0xBF203C85#32
  | 58 => 0xBF79EE89#32
  | 59 => 0xBF659974#32
  | 60 => 0xBED8616C#32
  | 61 => 0x3E7363EE#32
  | 62 => 0x3F4B1934#32
  | 63 => 0x3F7FF067#32
  | 64 => 0x3F441B7D#32
  | 65 => 0x3E47C5C2#32
  | 66 => 0xBEEC6A50#32
  | 67 => 0xBF6A51DA#32
  | 68 => 0xBF7746EA#32
  | 69 => 0xBF176012#32
  | 70 => 0x3D32AA3E#32
  | 71 => 0x3F28CAE3#32
  | 72 => 0x3F7C1C5C#32
  | 73 => 0x3F60712A#32
  | 74 => 0x3EC3EF15#32
  | 75 => 0xBE8F45C0#32
  | 76 => 0xBF51B3F3#32
  | 77 => 0xBF7F73AF#32
  | 78 => 0xBF3CBE35#32
  | 79 => 0xBE1BC63C#32
  | 80 => 0x3F000000#32
  | 81 => 0x3F6E9811#32
  | 82 => 0x3F7426CB#32
  | 83 => 0x3F0E39DA#32
  | 84 => 0xBDB27EB6#32
  | 85 => 0xBF310700#32
  | 86 => 0xBF7DCF55#32
  | 87 => 0xBF5ADB81#32
  | 88 => 0xBEAF1D44#32
  | 89 => 0x3EA493B7#32
  | 90 => 0x3F57E880#32
  | 91 => 0x3F7E7A7A#32
  | 92 => 0x3F3504F3#32
  | 93 => 0x3DDEF599#32
  | 94 => 0xBF098C78#32
  | 95 => 0xBF726A03#32
  | 96 => 0xBF708FB2#32
  | 97 => 0xBF04CE53#32
  | 98 => 0x3E05A8A8#32
  | 99 => 0x3F38ECD8#32
  | 100 => 0x3F7F069E#32
  | 101 => 0x3F54DB31#32
  | 102 => 0x3E99F61C#32
  | 103 => 0xBEB9917B#32
  | 104 => 0xBF5DB3D7#32
  | 105 => 0xBF7D0543#32
  | 106 => 0xBF2CF37B#32
  | 107 => 0xBD85F213#32
  | 108 => 0x3F12D5E8#32
  | 109 => 0x3F75C5D4#32
  | 110 => 0x3F6C835E#32
  | 111 => 0x3EF64429#32
  | 112 => 0xBE31D0D4#32
  | 113 => 0xBF407893#32
  | 114 => 0xBF7FC1A0#32
  | 115 => 0xBF4E7327#32
  | 116 => 0xBE8483EE#32
  | 117 => 0x3ECE34D0#32
  | 118 => 0x3F631324#32
  | 119 => 0x3F7B14BE#32
  | 120 => 0x3F248DBB#32
  | 121 => 0x3CB2B521#32
  | 122 => 0xBF1BD7CA#32
  | 123 => 0xBF78A9E0#32
  | 124 => 0xBF6803CA#32
  | 125 => 0xBEE273AA#32
  | 126 => 0x3E5DA259#32
  | 127 => 0x3F47A682#32
  | _ => 0#32

noncomputable abbrev lit0t0_72 (i : Nat) : BitVec 32 := match i % 128 with
  | 0 => 0x3F800000#32
  | 1 => 0x3F441B7D#32
  | 2 => 0x3E31D0D4#32
  | 3 => 0xBF000000#32
  | 4 => 0xBF708FB2#32
  | 5 => 0xBF708FB2#32
  | 6 => 0xBF000000#32
  | 7 => 0x3E31D0D4#32
  | 8 => 0x3F441B7D#32
  | 9 => 0x3F800000#32
  | 10 => 0x3F441B7D#32
  | 11 => 0x3E31D0D4#32
  | 12 => 0xBF000000#32
  | 13 => 0xBF708FB2#32
  | 14 => 0xBF708FB2#32
  | 15 => 0xBF000000#32
  | 16 => 0x3E31D0D4#32
  | 17 => 0x3F441B7D#32
  | 18 => 0x3F800000#32
  | 19 => 0x3F441B7D#32
  | 20 => 0x3E31D0D4#32
  | 21 => 0xBF000000#32
  | 22 => 0xBF708FB2#32
  | 23 => 0xBF708FB2#32
  | 24 => 0xBF000000#32
  | 25 => 0x3E31D0D4#32
  | 26 => 0x3F441B7D#32
  | 27 => 0x3F800000#32
  | 28 => 0x3F441B7D#32
  | 29 => 0x3E31D0D4#32
  | 30 => 0xBF000000#32
  | 31 => 0xBF708FB2#32
  | 32 => 0xBF708FB2#32
  | 33 => 0xBF000000#32
  | 34 => 0x3E31D0D4#32
  | 35 => 0x3F441B7D#32
  | 36 => 0x3F800000#32
  | 37 => 0x3F441B7D#32
  | 38 => 0x3E31D0D4#32
  | 39 => 0xBF000000#32
  | 40 => 0xBF708FB2#32
  | 41 => 0xBF708FB2#32
  | 42 => 0xBF000000#32
  | 43 => 0x3E31D0D4#32
  | 44 => 0x3F441B7D#32
  | 45 => 0x3F800000#32
  | 46 => 0x3F441B7D#32
  | 47 => 0x3E31D0D4#32
  | 48 => 0xBF000000#32
  | 49 => 0xBF708FB2#32
  | 50 => 0xBF708FB2#32
  | 51 => 0xBF000000#32
  | 52 => 0x3E31D0D4#32
  | 53 => 0x3F441B7D#32
  | 54 => 0x3F800000#32
  | 55 => 0x3F441B7D#32
  | 56 => 0x3E31D0D4#32
  | 57 => 0xBF000000#32
  | 58 => 0xBF708FB2#32
  | 59 => 0xBF708FB2#32
  | 60 => 0xBF000000#32
  | 61 => 0x3E31D0D4#32
  | 62 => 0x3F441B7D#32
  | 63 => 0x3F800000#32
  | 64 => 0x3F441B7D#32
  | 65 => 0x3E31D0D4#32
  | 66 => 0xBF000000#32
  | 67 => 0xBF708FB2#32
  | 68 => 0xBF708FB2#32
  | 69 => 0xBF000000#32
  | 70 => 0x3E31D0D4#32
  | 71 => 0x3F441B7D#32
  | 72 => 0x3F800000#32
  | 73 => 0x3F441B7D#32
  | 74 => 0x3E31D0D4#32
  | 75 => 0xBF000000#32
  | 76 => 0xBF708FB2#32
  | 77 => 0xBF708FB2#32
  | 78 => 0xBF000000#32
  | 79 => 0x3E31D0D4#32
  | 80 => 0x3F441B7D#32
  | 81 => 0x3F800000#32
  | 82 => 0x3F441B7D#32
  | 83 => 0x3E31D0D4#32
  | 84 => 0xBF000000#32
  | 85 => 0xBF708FB2#32
  | 86 => 0xBF708FB2#32
  | 87 => 0xBF000000#32
  | 88 => 0x3E31D0D4#32
  | 89 => 0x3F441B7D#32
  | 90 => 0x3F800000#32
  | 91 => 0x3F441B7D#32
  | 92 => 0x3E31D0D4#32
  | 93 => 0xBF000000#32
  | 94 => 0xBF708FB2#32
  | 95 => 0xBF708FB2#32
  | 96 => 0xBF000000#32
  | 97 => 0x3E31D0D4#32
  | 98 => 0x3F441B7D#32
  | 99 => 0x3F800000#32
  | 100 => 0x3F441B7D#32
  | 101 => 0x3E31D0D4#32
  | 102 => 0xBF000000#32
  | 103 => 0xBF708FB2#32
  | 104 => 0xBF708FB2#32
  | 105 => 0xBF000000#32
  | 106 => 0x3E31D0D4#32
  | 107 => 0x3F441B7D#32
  | 108 => 0x3F800000#32
  | 109 => 0x3F441B7D#32
  | 110 => 0x3E31D0D4#32
  | 111 => 0xBF000000#32
  | 112 => 0xBF708FB2#32
  | 113 => 0xBF708FB2#32
  | 114 => 0xBF000000#32
  | 115 => 0x3E31D0D4#32
  | 116 => 0x3F441B7D#32
  | 117 => 0x3F800000#32
  | 118 => 0x3F441B7D#32
  | 119 => 0x3E31D0D4#32
  | 120 => 0xBF000000#32
  | 121 => 0xBF708FB2#32
  | 122 => 0xBF708FB2#32
  | 123 => 0xBF000000#32
  | 124 => 0x3E31D0D4#32
  | 125 => 0x3F441B7D#32
  | 126 => 0x3F800000#32
  | 127 => 0x3F441B7D#32
  | _ => 0#32

noncomputable abbrev lit0t0_73 (i : Nat) : BitVec 32 := match i % 128 with
  | 0 => 0x3E31D0D4#32
  | 1 => 0xBF000000#32
  | 2 => 0xBF708FB2#32
  | 3 => 0xBF708FB2#32
  | 4 => 0xBF000000#32
  | 5 => 0x3E31D0D4#32
  | 6 => 0x3F441B7D#32
  | 7 => 0x3F800000#32
  | 8 => 0x3F441B7D#32
  | 9 => 0x3E31D0D4#32
  | 10 => 0xBF000000#32
  | 11 => 0xBF708FB2#32
  | 12 => 0xBF708FB2#32
  | 13 => 0xBF000000#32
  | 14 => 0x3E31D0D4#32
  | 15 => 0x3F441B7D#32
  | 16 => 0x3F800000#32
  | 17 => 0x3F441B7D#32
  | 18 => 0x3E31D0D4#32
  | 19 => 0xBF000000#32
  | 20 => 0xBF708FB2#32
  | 21 => 0xBF708FB2#32
  | 22 => 0xBF000000#32
  | 23 => 0x3E31D0D4#32
  | 24 => 0x3F441B7D#32
  | 25 => 0x3F800000#32
  | 26 => 0x3F441B7D#32
  | 27 => 0x3E31D0D4#32
  | 28 => 0xBF000000#32
  | 29 => 0xBF708FB2#32
  | 30 => 0xBF708FB2#32
  | 31 => 0xBF000000#32
  | 32 => 0x3E31D0D4#32
  | 33 => 0x3F441B7D#32
  | 34 => 0x3F800000#32
  | 35 => 0x3F441B7D#32
  | 36 => 0x3E31D0D4#32
  | 37 => 0xBF000000#32
  | 38 => 0xBF708FB2#32
  | 39 => 0xBF708FB2#32
  | 40 => 0xBF000000#32
  | 41 => 0x3E31D0D4#32
  | 42 => 0x3F441B7D#32
  | 43 => 0x3F800000#32
  | 44 => 0x3F441B7D#32
  | 45 => 0x3E31D0D4#32
  | 46 => 0xBF000000#32
  | 47 => 0xBF708FB2#32
  | 48 => 0xBF708FB2#32
  | 49 => 0xBF000000#32
  | 50 => 0x3E31D0D4#32
  | 51 => 0x3F441B7D#32
  | 52 => 0x3F800000#32
  | 53 => 0x3F441B7D#32
  | 54 => 0x3E31D0D4#32
  | 55 => 0xBF000000#32
  | 56 => 0xBF708FB2#32
  | 57 => 0xBF708FB2#32
  | 58 => 0xBF000000#32
  | 59 => 0x3E31D0D4#32
  | 60 => 0x3F441B7D#32
  | 61 => 0x3F800000#32
  | 62 => 0x3F441B7D#32
  | 63 => 0x3E31D0D4#32
  | 64 => 0xBF000000#32
  | 65 => 0xBF708FB2#32
  | 66 => 0xBF708FB2#32
  | 67 => 0xBF000000#32
  | 68 => 0x3E31D0D4#32
  | 69 => 0x3F441B7D#32
  | 70 => 0x3F800000#32
  | 71 => 0x3F441B7D#32
  | 72 => 0x3E31D0D4#32
  | 73 => 0xBF000000#32
  | 74 => 0xBF708FB2#32
  | 75 => 0xBF708FB2#32
  | 76 => 0xBF000000#32
  | 77 => 0x3E31D0D4#32
  | 78 => 0x3F441B7D#32
  | 79 => 0x3F800000#32
  | 80 => 0x3F441B7D#32
  | 81 => 0x3E31D0D4#32
  | 82 => 0xBF000000#32
  | 83 => 0xBF708FB2#32
  | 84 => 0xBF708FB2#32
  | 85 => 0xBF000000#32
  | 86 => 0x3E31D0D4#32
  | 87 => 0x3F441B7D#32
  | 88 => 0x3F800000#32
  | 89 => 0x3F441B7D#32
  | 90 => 0x3E31D0D4#32
  | 91 => 0xBF000000#32
  | 92 => 0xBF708FB2#32
  | 93 => 0xBF708FB2#32
  | 94 => 0xBF000000#32
  | 95 => 0x3E31D0D4#32
  | 96 => 0x3F441B7D#32
  | 97 => 0x3F800000#32
  | 98 => 0x3F441B7D#32
  | 99 => 0x3E31D0D4#32
  | 100 => 0xBF000000#32
  | 101 => 0xBF708FB2#32
  | 102 => 0xBF708FB2#32
  | 103 => 0xBF000000#32
  | 104 => 0x3E31D0D4#32
  | 105 => 0x3F441B7D#32
  | 106 => 0x3F800000#32
  | 107 => 0x3F441B7D#32
  | 108 => 0x3E31D0D4#32
  | 109 => 0xBF000000#32
  | 110 => 0xBF708FB2#32
  | 111 => 0xBF708FB2#32
  | 112 => 0xBF000000#32
  | 113 => 0x3E31D0D4#32
  | 114 => 0x3F441B7D#32
  | 115 => 0x3F800000#32
  | 116 => 0x3F441B7D#32
  | 117 => 0x3E31D0D4#32
  | 118 => 0xBF000000#32
  | 119 => 0xBF708FB2#32
  | 120 => 0xBF708FB2#32
  | 121 => 0xBF000000#32
  | 122 => 0x3E31D0D4#32
  | 123 => 0x3F441B7D#32
  | 124 => 0x3F800000#32
  | 125 => 0x3F441B7D#32
  | 126 => 0x3E31D0D4#32
  | 127 => 0xBF000000#32
  | _ => 0#32

noncomputable abbrev lit0t0_74 (i : Nat) : BitVec 32 := match i % 128 with
  | 0 => 0xBF708FB2#32
  | 1 => 0xBF708FB2#32
  | 2 => 0xBF000000#32
  | 3 => 0x3E31D0D4#32
  | 4 => 0x3F441B7D#32
  | 5 => 0x3F800000#32
  | 6 => 0x3F441B7D#32
  | 7 => 0x3E31D0D4#32
  | 8 => 0xBF000000#32
  | 9 => 0xBF708FB2#32
  | 10 => 0xBF708FB2#32
  | 11 => 0xBF000000#32
  | 12 => 0x3E31D0D4#32
  | 13 => 0x3F441B7D#32
  | 14 => 0x3F800000#32
  | 15 => 0x3F441B7D#32
  | 16 => 0x3E31D0D4#32
  | 17 => 0xBF000000#32
  | 18 => 0xBF708FB2#32
  | 19 => 0xBF708FB2#32
  | 20 => 0xBF000000#32
  | 21 => 0x3E31D0D4#32
  | 22 => 0x3F441B7D#32
  | 23 => 0x3F800000#32
  | 24 => 0x3F441B7D#32
  | 25 => 0x3E31D0D4#32
  | 26 => 0xBF000000#32
  | 27 => 0xBF708FB2#32
  | 28 => 0xBF708FB2#32
  | 29 => 0xBF000000#32
  | 30 => 0x3E31D0D4#32
  | 31 => 0x3F441B7D#32
  | 32 => 0x3F800000#32
  | 33 => 0x3F407893#32
  | 34 => 0x3E05A8A8#32
  | 35 => 0xBF0E39DA#32
  | 36 => 0xBF7746EA#32
  | 37 => 0xBF659974#32
  | 38 => 0xBEC3EF15#32
  | 39 => 0x3EA493B7#32
  | 40 => 0x3F5DB3D7#32
  | 41 => 0x3F7B14BE#32
  | 42 => 0x3F1BD7CA#32
  | 43 => 0xBD85F213#32
  | 44 => 0xBF3504F3#32
  | 45 => 0xBF7F73AF#32
  | 46 => 0xBF4B1934#32
  | 47 => 0xBE47C5C2#32
  | 48 => 0x3F000000#32
  | 49 => 0x3F726A03#32
  | 50 => 0x3F6C835E#32
  | 51 => 0x3EE273AA#32
  | 52 => 0xBE8483EE#32
  | 53 => 0xBF54DB31#32
  | 54 => 0xBF7DCF55#32
  | 55 => 0xBF28CAE3#32
  | 56 => 0xA553C9CA#32
  | 57 => 0x3F28CAE3#32
  | 58 => 0x3F7DCF55#32
  | 59 => 0x3F54DB31#32
  | 60 => 0x3E8483EE#32
  | 61 => 0xBEE273AA#32
  | 62 => 0xBF6C835E#32
  | 63 => 0xBF726A03#32
  | 64 => 0xBF000000#32
  | 65 => 0x3E47C5C2#32
  | 66 => 0x3F4B1934#32
  | 67 => 0x3F7F73AF#32
  | 68 => 0x3F3504F3#32
  | 69 => 0x3D85F213#32
  | 70 => 0xBF1BD7CA#32
  | 71 => 0xBF7B14BE#32
  | 72 => 0xBF5DB3D7#32
  | 73 => 0xBEA493B7#32
  | 74 => 0x3EC3EF15#32
  | 75 => 0x3F659974#32
  | 76 => 0x3F7746EA#32
  | 77 => 0x3F0E39DA#32
  | 78 => 0xBE05A8A8#32
  | 79 => 0xBF407893#32
  | 80 => 0xBF800000#32
  | 81 => 0xBF407893#32
  | 82 => 0xBE05A8A8#32
  | 83 => 0x3F0E39DA#32
  | 84 => 0x3F7746EA#32
  | 85 => 0x3F659974#32
  | 86 => 0x3EC3EF15#32
  | 87 => 0xBEA493B7#32
  | 88 => 0xBF5DB3D7#32
  | 89 => 0xBF7B14BE#32
  | 90 => 0xBF1BD7CA#32
  | 91 => 0x3D85F213#32
  | 92 => 0x3F3504F3#32
  | 93 => 0x3F7F73AF#32
  | 94 => 0x3F4B1934#32
  | 95 => 0x3E47C5C2#32
  | 96 => 0xBF000000#32
  | 97 => 0xBF726A03#32
  | 98 => 0xBF6C835E#32
  | 99 => 0xBEE273AA#32
  | 100 => 0x3E8483EE#32
  | 101 => 0x3F54DB31#32
  | 102 => 0x3F7DCF55#32
  | 103 => 0x3F28CAE3#32
  | 104 => 0x248D3132#32
  | 105 => 0xBF28CAE3#32
  | 106 => 0xBF7DCF55#32
  | 107 => 0xBF54DB31#32
  | 108 => 0xBE8483EE#32
  | 109 => 0x3EE273AA#32
  | 110 => 0x3F6C835E#32
  | 111 => 0x3F726A03#32
  | 112 => 0x3F000000#32
  | 113 => 0xBE47C5C2#32
  | 114 => 0xBF4B1934#32
  | 115 => 0xBF7F73AF#32
  | 116 => 0xBF3504F3#32
  | 117 => 0xBD85F213#32
  | 118 => 0x3F1BD7CA#32
  | 119 => 0x3F7B14BE#32
  | 120 => 0x3F5DB3D7#32
  | 121 => 0x3EA493B7#32
  | 122 => 0xBEC3EF15#32
  | 123 => 0xBF659974#32
  | 124 => 0xBF7746EA#32
  | 125 => 0xBF0E39DA#32
  | 126 => 0x3E05A8A8#32
  | 127 => 0x3F407893#32
  | _ => 0#32

noncomputable abbrev lit0t0_75 (i : Nat) : BitVec 32 := match i % 128 with
  | 0 => 0x3F800000#32
  | 1 => 0x3F407893#32
  | 2 => 0x3E05A8A8#32
  | 3 => 0xBF0E39DA#32
  | 4 => 0xBF7746EA#32
  | 5 => 0xBF659974#32
  | 6 => 0xBEC3EF15#32
  | 7 => 0x3EA493B7#32
  | 8 => 0x3F5DB3D7#32
  | 9 => 0x3F7B14BE#32
  | 10 => 0x3F1BD7CA#32
  | 11 => 0xBD85F213#32
  | 12 => 0xBF3504F3#32
  | 13 => 0xBF7F73AF#32
  | 14 => 0xBF4B1934#32
  | 15 => 0xBE47C5C2#32
  | 16 => 0x3F000000#32
  | 17 => 0x3F726A03#32
  | 18 => 0x3F6C835E#32
  | 19 => 0x3EE273AA#32
  | 20 => 0xBE8483EE#32
  | 21 => 0xBF54DB31#32
  | 22 => 0xBF7DCF55#32
  | 23 => 0xBF28CAE3#32
  | 24 => 0xA553C9CA#32
  | 25 => 0x3F28CAE3#32
  | 26 => 0x3F7DCF55#32
  | 27 => 0x3F54DB31#32
  | 28 => 0x3E8483EE#32
  | 29 => 0xBEE273AA#32
  | 30 => 0xBF6C835E#32
  | 31 => 0xBF726A03#32
  | 32 => 0xBF000000#32
  | 33 => 0x3E47C5C2#32
  | 34 => 0x3F4B1934#32
  | 35 => 0x3F7F73AF#32
  | 36 => 0x3F3504F3#32
  | 37 => 0x3D85F213#32
  | 38 => 0xBF1BD7CA#32
  | 39 => 0xBF7B14BE#32
  | 40 => 0xBF5DB3D7#32
  | 41 => 0xBEA493B7#32
  | 42 => 0x3EC3EF15#32
  | 43 => 0x3F659974#32
  | 44 => 0x3F7746EA#32
  | 45 => 0x3F0E39DA#32
  | 46 => 0xBE05A8A8#32
  | 47 => 0xBF407893#32
  | 48 => 0xBF800000#32
  | 49 => 0xBF407893#32
  | 50 => 0xBE05A8A8#32
  | 51 => 0x3F0E39DA#32
  | 52 => 0x3F7746EA#32
  | 53 => 0x3F659974#32
  | 54 => 0x3EC3EF15#32
  | 55 => 0xBEA493B7#32
  | 56 => 0xBF5DB3D7#32
  | 57 => 0xBF7B14BE#32
  | 58 => 0xBF1BD7CA#32
  | 59 => 0x3D85F213#32
  | 60 => 0x3F3504F3#32
  | 61 => 0x3F7F73AF#32
  | 62 => 0x3F4B1934#32
  | 63 => 0x3E47C5C2#32
  | 64 => 0xBF000000#32
  | 65 => 0xBF726A03#32
  | 66 => 0xBF6C835E#32
  | 67 => 0xBEE273AA#32
  | 68 => 0x3E8483EE#32
  | 69 => 0x3F54DB31#32
  | 70 => 0x3F7DCF55#32
  | 71 => 0x3F28CAE3#32
  | 72 => 0x248D3132#32
  | 73 => 0xBF28CAE3#32
  | 74 => 0xBF7DCF55#32
  | 75 => 0xBF54DB31#32
  | 76 => 0xBE8483EE#32
  | 77 => 0x3EE273AA#32
  | 78 => 0x3F6C835E#32
  | 79 => 0x3F726A03#32
  | 80 => 0x3F000000#32
  | 81 => 0xBE47C5C2#32
  | 82 => 0xBF4B1934#32
  | 83 => 0xBF7F73AF#32
  | 84 => 0xBF3504F3#32
  | 85 => 0xBD85F213#32
  | 86 => 0x3F1BD7CA#32
  | 87 => 0x3F7B14BE#32
  | 88 => 0x3F5DB3D7#32
  | 89 => 0x3EA493B7#32
  | 90 => 0xBEC3EF15#32
  | 91 => 0xBF659974#32
  | 92 => 0xBF7746EA#32
  | 93 => 0xBF0E39DA#32
  | 94 => 0x3E05A8A8#32
  | 95 => 0x3F407893#32
  | 96 => 0x3F800000#32
  | 97 => 0x3F407893#32
  | 98 => 0x3E05A8A8#32
  | 99 => 0xBF0E39DA#32
  | 100 => 0xBF7746EA#32
  | 101 => 0xBF659974#32
  | 102 => 0xBEC3EF15#32
  | 103 => 0x3EA493B7#32
  | 104 => 0x3F5DB3D7#32
  | 105 => 0x3F7B14BE#32
  | 106 => 0x3F1BD7CA#32
  | 107 => 0xBD85F213#32
  | 108 => 0xBF3504F3#32
  | 109 => 0xBF7F73AF#32
  | 110 => 0xBF4B1934#32
  | 111 => 0xBE47C5C2#32
  | 112 => 0x3F000000#32
  | 113 => 0x3F726A03#32
  | 114 => 0x3F6C835E#32
  | 115 => 0x3EE273AA#32
  | 116 => 0xBE8483EE#32
  | 117 => 0xBF54DB31#32
  | 118 => 0xBF7DCF55#32
  | 119 => 0xBF28CAE3#32
  | 120 => 0xA553C9CA#32
  | 121 => 0x3F28CAE3#32
  | 122 => 0x3F7DCF55#32
  | 123 => 0x3F54DB31#32
  | 124 => 0x3E8483EE#32
  | 125 => 0xBEE273AA#32
  | 126 => 0xBF6C835E#32
  | 127 => 0xBF726A03#32
  | _ => 0#32

noncomputable abbrev lit0t0_76 (i : Nat) : BitVec 32 := match i % 128 with
  | 0 => 0xBF000000#32
  | 1 => 0x3E47C5C2#32
  | 2 => 0x3F4B1934#32
  | 3 => 0x3F7F73AF#32
  | 4 => 0x3F3504F3#32
  | 5 => 0x3D85F213#32
  | 6 => 0xBF1BD7CA#32
  | 7 => 0xBF7B14BE#32
  | 8 => 0xBF5DB3D7#32
  | 9 => 0xBEA493B7#32
  | 10 => 0x3EC3EF15#32
  | 11 => 0x3F659974#32
  | 12 => 0x3F7746EA#32
  | 13 => 0x3F0E39DA#32
  | 14 => 0xBE05A8A8#32
  | 15 => 0xBF407893#32
  | 16 => 0xBF800000#32
  | 17 => 0xBF407893#32
  | 18 => 0xBE05A8A8#32
  | 19 => 0x3F0E39DA#32
  | 20 => 0x3F7746EA#32
  | 21 => 0x3F659974#32
  | 22 => 0x3EC3EF15#32
  | 23 => 0xBEA493B7#32
  | 24 => 0xBF5DB3D7#32
  | 25 => 0xBF7B14BE#32
  | 26 => 0xBF1BD7CA#32
  | 27 => 0x3D85F213#32
  | 28 => 0x3F3504F3#32
  | 29 => 0x3F7F73AF#32
  | 30 => 0x3F4B1934#32
  | 31 => 0x3E47C5C2#32
  | 32 => 0xBF000000#32
  | 33 => 0xBF726A03#32
  | 34 => 0xBF6C835E#32
  | 35 => 0xBEE273AA#32
  | 36 => 0x3E8483EE#32
  | 37 => 0x3F54DB31#32
  | 38 => 0x3F7DCF55#32
  | 39 => 0x3F28CAE3#32
  | 40 => 0x248D3132#32
  | 41 => 0xBF28CAE3#32
  | 42 => 0xBF7DCF55#32
  | 43 => 0xBF54DB31#32
  | 44 => 0xBE8483EE#32
  | 45 => 0x3EE273AA#32
  | 46 => 0x3F6C835E#32
  | 47 => 0x3F726A03#32
  | 48 => 0x3F000000#32
  | 49 => 0xBE47C5C2#32
  | 50 => 0xBF4B1934#32
  | 51 => 0xBF7F73AF#32
  | 52 => 0xBF3504F3#32
  | 53 => 0xBD85F213#32
  | 54 => 0x3F1BD7CA#32
  | 55 => 0x3F7B14BE#32
  | 56 => 0x3F5DB3D7#32
  | 57 => 0x3EA493B7#32
  | 58 => 0xBEC3EF15#32
  | 59 => 0xBF659974#32
  | 60 => 0xBF7746EA#32
  | 61 => 0xBF0E39DA#32
  | 62 => 0x3E05A8A8#32
  | 63 => 0x3F407893#32
  | 64 => 0x3F800000#32
  | 65 => 0x3F3CBE35#32
  | 66 => 0x3DB27EB6#32
  | 67 => 0xBF1BD7CA#32
  | 68 => 0xBF7C1C5C#32
  | 69 => 0xBF57E880#32
  | 70 => 0xBE8483EE#32
  | 71 => 0x3EEC6A50#32
  | 72 => 0x3F708FB2#32
  | 73 => 0x3F6C835E#32
  | 74 => 0x3ED8616C#32
  | 75 => 0xBE99F61C#32
  | 76 => 0xBF5DB3D7#32
  | 77 => 0xBF79EE89#32
  | 78 => 0xBF12D5E8#32
  | 79 => 0x3E05A8A8#32
  | 80 => 0x3F441B7D#32
  | 81 => 0x3F7FC1A0#32
  | 82 => 0x3F3504F3#32
  | 83 => 0x3D32AA3E#32
  | 84 => 0xBF248DBB#32
  | 85 => 0xBF7DCF55#32
  | 86 => 0xBF51B3F3#32
  | 87 => 0xBE5DA259#32
  | 88 => 0x3F000000#32
  | 89 => 0x3F7426CB#32
  | 90 => 0x3F6803CA#32
  | 91 => 0x3EC3EF15#32
  | 92 => 0xBEAF1D44#32
  | 93 => 0xBF631324#32
  | 94 => 0xBF7746EA#32
  | 95 => 0xBF098C78#32
  | 96 => 0x3E31D0D4#32
  | 97 => 0x3F4B1934#32
  | 98 => 0x3F7F069E#32
  | 99 => 0x3F2CF37B#32
  | 100 => 0x248D3132#32
  | 101 => 0xBF2CF37B#32
  | 102 => 0xBF7F069E#32
  | 103 => 0xBF4B1934#32
  | 104 => 0xBE31D0D4#32
  | 105 => 0x3F098C78#32
  | 106 => 0x3F7746EA#32
  | 107 => 0x3F631324#32
  | 108 => 0x3EAF1D44#32
  | 109 => 0xBEC3EF15#32
  | 110 => 0xBF6803CA#32
  | 111 => 0xBF7426CB#32
  | 112 => 0xBF000000#32
  | 113 => 0x3E5DA259#32
  | 114 => 0x3F51B3F3#32
  | 115 => 0x3F7DCF55#32
  | 116 => 0x3F248DBB#32
  | 117 => 0xBD32AA3E#32
  | 118 => 0xBF3504F3#32
  | 119 => 0xBF7FC1A0#32
  | 120 => 0xBF441B7D#32
  | 121 => 0xBE05A8A8#32
  | 122 => 0x3F12D5E8#32
  | 123 => 0x3F79EE89#32
  | 124 => 0x3F5DB3D7#32
  | 125 => 0x3E99F61C#32
  | 126 => 0xBED8616C#32
  | 127 => 0xBF6C835E#32
  | _ => 0#32

noncomputable abbrev lit0t0_77 (i : Nat) : BitVec 32 := match i % 128 with
  | 0 => 0xBF708FB2#32
  | 1 => 0xBEEC6A50#32
  | 2 => 0x3E8483EE#32
  | 3 => 0x3F57E880#32
  | 4 => 0x3F7C1C5C#32
  | 5 => 0x3F1BD7CA#32
  | 6 => 0xBDB27EB6#32
  | 7 => 0xBF3CBE35#32
  | 8 => 0xBF800000#32
  | 9 => 0xBF3CBE35#32
  | 10 => 0xBDB27EB6#32
  | 11 => 0x3F1BD7CA#32
  | 12 => 0x3F7C1C5C#32
  | 13 => 0x3F57E880#32
  | 14 => 0x3E8483EE#32
  | 15 => 0xBEEC6A50#32
  | 16 => 0xBF708FB2#32
  | 17 => 0xBF6C835E#32
  | 18 => 0xBED8616C#32
  | 19 => 0x3E99F61C#32
  | 20 => 0x3F5DB3D7#32
  | 21 => 0x3F79EE89#32
  | 22 => 0x3F12D5E8#32
  | 23 => 0xBE05A8A8#32
  | 24 => 0xBF441B7D#32
  | 25 => 0xBF7FC1A0#32
  | 26 => 0xBF3504F3#32
  | 27 => 0xBD32AA3E#32
  | 28 => 0x3F248DBB#32
  | 29 => 0x3F7DCF55#32
  | 30 => 0x3F51B3F3#32
  | 31 => 0x3E5DA259#32
  | 32 => 0xBF000000#32
  | 33 => 0xBF7426CB#32
  | 34 => 0xBF6803CA#32
  | 35 => 0xBEC3EF15#32
  | 36 => 0x3EAF1D44#32
  | 37 => 0x3F631324#32
  | 38 => 0x3F7746EA#32
  | 39 => 0x3F098C78#32
  | 40 => 0xBE31D0D4#32
  | 41 => 0xBF4B1934#32
  | 42 => 0xBF7F069E#32
  | 43 => 0xBF2CF37B#32
  | 44 => 0xA553C9CA#32
  | 45 => 0x3F2CF37B#32
  | 46 => 0x3F7F069E#32
  | 47 => 0x3F4B1934#32
  | 48 => 0x3E31D0D4#32
  | 49 => 0xBF098C78#32
  | 50 => 0xBF7746EA#32
  | 51 => 0xBF631324#32
  | 52 => 0xBEAF1D44#32
  | 53 => 0x3EC3EF15#32
  | 54 => 0x3F6803CA#32
  | 55 => 0x3F7426CB#32
  | 56 => 0x3F000000#32
  | 57 => 0xBE5DA259#32
  | 58 => 0xBF51B3F3#32
  | 59 => 0xBF7DCF55#32
  | 60 => 0xBF248DBB#32
  | 61 => 0x3D32AA3E#32
  | 62 => 0x3F3504F3#32
  | 63 => 0x3F7FC1A0#32
  | 64 => 0x3F441B7D#32
  | 65 => 0x3E05A8A8#32
  | 66 => 0xBF12D5E8#32
  | 67 => 0xBF79EE89#32
  | 68 => 0xBF5DB3D7#32
  | 69 => 0xBE99F61C#32
  | 70 => 0x3ED8616C#32
  | 71 => 0x3F6C835E#32
  | 72 => 0x3F708FB2#32
  | 73 => 0x3EEC6A50#32
  | 74 => 0xBE8483EE#32
  | 75 => 0xBF57E880#32
  | 76 => 0xBF7C1C5C#32
  | 77 => 0xBF1BD7CA#32
  | 78 => 0x3DB27EB6#32
  | 79 => 0x3F3CBE35#32
  | 80 => 0x3F800000#32
  | 81 => 0x3F3CBE35#32
  | 82 => 0x3DB27EB6#32
  | 83 => 0xBF1BD7CA#32
  | 84 => 0xBF7C1C5C#32
  | 85 => 0xBF57E880#32
  | 86 => 0xBE8483EE#32
  | 87 => 0x3EEC6A50#32
  | 88 => 0x3F708FB2#32
  | 89 => 0x3F6C835E#32
  | 90 => 0x3ED8616C#32
  | 91 => 0xBE99F61C#32
  | 92 => 0xBF5DB3D7#32
  | 93 => 0xBF79EE89#32
  | 94 => 0xBF12D5E8#32
  | 95 => 0x3E05A8A8#32
  | 96 => 0x3F441B7D#32
  | 97 => 0x3F7FC1A0#32
  | 98 => 0x3F3504F3#32
  | 99 => 0x3D32AA3E#32
  | 100 => 0xBF248DBB#32
  | 101 => 0xBF7DCF55#32
  | 102 => 0xBF51B3F3#32
  | 103 => 0xBE5DA259#32
  | 104 => 0x3F000000#32
  | 105 => 0x3F7426CB#32
  | 106 => 0x3F6803CA#32
  | 107 => 0x3EC3EF15#32
  | 108 => 0xBEAF1D44#32
  | 109 => 0xBF631324#32
  | 110 => 0xBF7746EA#32
  | 111 => 0xBF098C78#32
  | 112 => 0x3E31D0D4#32
  | 113 => 0x3F4B1934#32
  | 114 => 0x3F7F069E#32
  | 115 => 0x3F2CF37B#32
  | 116 => 0x248D3132#32
  | 117 => 0xBF2CF37B#32
  | 118 => 0xBF7F069E#32
  | 119 => 0xBF4B1934#32
  | 120 => 0xBE31D0D4#32
  | 121 => 0x3F098C78#32
  | 122 => 0x3F7746EA#32
  | 123 => 0x3F631324#32
  | 124 => 0x3EAF1D44#32
  | 125 => 0xBEC3EF15#32
  | 126 => 0xBF6803CA#32
  | 127 => 0xBF7426CB#32
  | _ => 0#32

noncomputable abbrev lit0t0_78 (i : Nat) : BitVec 32 := match i % 128 with
  | 0 => 0xBF000000#32
  | 1 => 0x3E5DA259#32
  | 2 => 0x3F51B3F3#32
  | 3 => 0x3F7DCF55#32
  | 4 => 0x3F248DBB#32
  | 5 => 0xBD32AA3E#32
  | 6 => 0xBF3504F3#32
  | 7 => 0xBF7FC1A0#32
  | 8 => 0xBF441B7D#32
  | 9 => 0xBE05A8A8#32
  | 10 => 0x3F12D5E8#32
  | 11 => 0x3F79EE89#32
  | 12 => 0x3F5DB3D7#32
  | 13 => 0x3E99F61C#32
  | 14 => 0xBED8616C#32
  | 15 => 0xBF6C835E#32
  | 16 => 0xBF708FB2#32
  | 17 => 0xBEEC6A50#32
  | 18 => 0x3E8483EE#32
  | 19 => 0x3F57E880#32
  | 20 => 0x3F7C1C5C#32
  | 21 => 0x3F1BD7CA#32
  | 22 => 0xBDB27EB6#32
  | 23 => 0xBF3CBE35#32
  | 24 => 0xBF800000#32
  | 25 => 0xBF3CBE35#32
  | 26 => 0xBDB27EB6#32
  | 27 => 0x3F1BD7CA#32
  | 28 => 0x3F7C1C5C#32
  | 29 => 0x3F57E880#32
  | 30 => 0x3E8483EE#32
  | 31 => 0xBEEC6A50#32
  | 32 => 0xBF708FB2#32
  | 33 => 0xBF6C835E#32
  | 34 => 0xBED8616C#32
  | 35 => 0x3E99F61C#32
  | 36 => 0x3F5DB3D7#32
  | 37 => 0x3F79EE89#32
  | 38 => 0x3F12D5E8#32
  | 39 => 0xBE05A8A8#32
  | 40 => 0xBF441B7D#32
  | 41 => 0xBF7FC1A0#32
  | 42 => 0xBF3504F3#32
  | 43 => 0xBD32AA3E#32
  | 44 => 0x3F248DBB#32
  | 45 => 0x3F7DCF55#32
  | 46 => 0x3F51B3F3#32
  | 47 => 0x3E5DA259#32
  | 48 => 0xBF000000#32
  | 49 => 0xBF7426CB#32
  | 50 => 0xBF6803CA#32
  | 51 => 0xBEC3EF15#32
  | 52 => 0x3EAF1D44#32
  | 53 => 0x3F631324#32
  | 54 => 0x3F7746EA#32
  | 55 => 0x3F098C78#32
  | 56 => 0xBE31D0D4#32
  | 57 => 0xBF4B1934#32
  | 58 => 0xBF7F069E#32
  | 59 => 0xBF2CF37B#32
  | 60 => 0xA553C9CA#32
  | 61 => 0x3F2CF37B#32
  | 62 => 0x3F7F069E#32
  | 63 => 0x3F4B1934#32
  | 64 => 0x3E31D0D4#32
  | 65 => 0xBF098C78#32
  | 66 => 0xBF7746EA#32
  | 67 => 0xBF631324#32
  | 68 => 0xBEAF1D44#32
  | 69 => 0x3EC3EF15#32
  | 70 => 0x3F6803CA#32
  | 71 => 0x3F7426CB#32
  | 72 => 0x3F000000#32
  | 73 => 0xBE5DA259#32
  | 74 => 0xBF51B3F3#32
  | 75 => 0xBF7DCF55#32
  | 76 => 0xBF248DBB#32
  | 77 => 0x3D32AA3E#32
  | 78 => 0x3F3504F3#32
  | 79 => 0x3F7FC1A0#32
  | 80 => 0x3F441B7D#32
  | 81 => 0x3E05A8A8#32
  | 82 => 0xBF12D5E8#32
  | 83 => 0xBF79EE89#32
  | 84 => 0xBF5DB3D7#32
  | 85 => 0xBE99F61C#32
  | 86 => 0x3ED8616C#32
  | 87 => 0x3F6C835E#32
  | 88 => 0x3F708FB2#32
  | 89 => 0x3EEC6A50#32
  | 90 => 0xBE8483EE#32
  | 91 => 0xBF57E880#32
  | 92 => 0xBF7C1C5C#32
  | 93 => 0xBF1BD7CA#32
  | 94 => 0x3DB27EB6#32
  | 95 => 0x3F3CBE35#32
  | 96 => 0x3F800000#32
  | 97 => 0x3F38ECD8#32
  | 98 => 0x3D32AA3E#32
  | 99 => 0xBF28CAE3#32
  | 100 => 0xBF7F069E#32
  | 101 => 0xBF47A682#32
  | 102 => 0xBE05A8A8#32
  | 103 => 0x3F176012#32
  | 104 => 0x3F7C1C5C#32
  | 105 => 0x3F54DB31#32
  | 106 => 0x3E5DA259#32
  | 107 => 0xBF04CE53#32
  | 108 => 0xBF7746EA#32
  | 109 => 0xBF60712A#32
  | 110 => 0xBE99F61C#32
  | 111 => 0x3EE273AA#32
  | 112 => 0x3F708FB2#32
  | 113 => 0x3F6A51DA#32
  | 114 => 0x3EC3EF15#32
  | 115 => 0xBEB9917B#32
  | 116 => 0xBF6803CA#32
  | 117 => 0xBF726A03#32
  | 118 => 0xBEEC6A50#32
  | 119 => 0x3E8F45C0#32
  | 120 => 0x3F5DB3D7#32
  | 121 => 0x3F78A9E0#32
  | 122 => 0x3F098C78#32
  | 123 => 0xBE47C5C2#32
  | 124 => 0xBF51B3F3#32
  | 125 => 0xBF7D0543#32
  | 126 => 0xBF1BD7CA#32
  | 127 => 0x3DDEF599#32
  | _ => 0#32

noncomputable abbrev lit0t0_79 (i : Nat) : BitVec 32 := match i % 128 with
  | 0 => 0x3F441B7D#32
  | 1 => 0x3F7F73AF#32
  | 2 => 0x3F2CF37B#32
  | 3 => 0xBCB2B521#32
  | 4 => 0xBF3504F3#32
  | 5 => 0xBF7FF067#32
  | 6 => 0xBF3CBE35#32
  | 7 => 0xBD85F213#32
  | 8 => 0x3F248DBB#32
  | 9 => 0x3F7E7A7A#32
  | 10 => 0x3F4B1934#32
  | 11 => 0x3E1BC63C#32
  | 12 => 0xBF12D5E8#32
  | 13 => 0xBF7B14BE#32
  | 14 => 0xBF57E880#32
  | 15 => 0xBE7363EE#32
  | 16 => 0x3F000000#32
  | 17 => 0x3F75C5D4#32
  | 18 => 0x3F631324#32
  | 19 => 0x3EA493B7#32
  | 20 => 0xBED8616C#32
  | 21 => 0xBF6E9811#32
  | 22 => 0xBF6C835E#32
  | 23 => 0xBECE34D0#32
  | 24 => 0x3EAF1D44#32
  | 25 => 0x3F659974#32
  | 26 => 0x3F7426CB#32
  | 27 => 0x3EF64429#32
  | 28 => 0xBE8483EE#32
  | 29 => 0xBF5ADB81#32
  | 30 => 0xBF79EE89#32
  | 31 => 0xBF0E39DA#32
  | 32 => 0x3E31D0D4#32
  | 33 => 0x3F4E7327#32
  | 34 => 0x3F7DCF55#32
  | 35 => 0x3F203C85#32
  | 36 => 0xBDB27EB6#32
  | 37 => 0xBF407893#32
  | 38 => 0xBF7FC1A0#32
  | 39 => 0xBF310700#32
  | 40 => 0xA553C9CA#32
  | 41 => 0x3F310700#32
  | 42 => 0x3F7FC1A0#32
  | 43 => 0x3F407893#32
  | 44 => 0x3DB27EB6#32
  | 45 => 0xBF203C85#32
  | 46 => 0xBF7DCF55#32
  | 47 => 0xBF4E7327#32
  | 48 => 0xBE31D0D4#32
  | 49 => 0x3F0E39DA#32
  | 50 => 0x3F79EE89#32
  | 51 => 0x3F5ADB81#32
  | 52 => 0x3E8483EE#32
  | 53 => 0xBEF64429#32
  | 54 => 0xBF7426CB#32
  | 55 => 0xBF659974#32
  | 56 => 0xBEAF1D44#32
  | 57 => 0x3ECE34D0#32
  | 58 => 0x3F6C835E#32
  | 59 => 0x3F6E9811#32
  | 60 => 0x3ED8616C#32
  | 61 => 0xBEA493B7#32
  | 62 => 0xBF631324#32
  | 63 => 0xBF75C5D4#32
  | 64 => 0xBF000000#32
  | 65 => 0x3E7363EE#32
  | 66 => 0x3F57E880#32
  | 67 => 0x3F7B14BE#32
  | 68 => 0x3F12D5E8#32
  | 69 => 0xBE1BC63C#32
  | 70 => 0xBF4B1934#32
  | 71 => 0xBF7E7A7A#32
  | 72 => 0xBF248DBB#32
  | 73 => 0x3D85F213#32
  | 74 => 0x3F3CBE35#32
  | 75 => 0x3F7FF067#32
  | 76 => 0x3F3504F3#32
  | 77 => 0x3CB2B521#32
  | 78 => 0xBF2CF37B#32
  | 79 => 0xBF7F73AF#32
  | 80 => 0xBF441B7D#32
  | 81 => 0xBDDEF599#32
  | 82 => 0x3F1BD7CA#32
  | 83 => 0x3F7D0543#32
  | 84 => 0x3F51B3F3#32
  | 85 => 0x3E47C5C2#32
  | 86 => 0xBF098C78#32
  | 87 => 0xBF78A9E0#32
  | 88 => 0xBF5DB3D7#32
  | 89 => 0xBE8F45C0#32
  | 90 => 0x3EEC6A50#32
  | 91 => 0x3F726A03#32
  | 92 => 0x3F6803CA#32
  | 93 => 0x3EB9917B#32
  | 94 => 0xBEC3EF15#32
  | 95 => 0xBF6A51DA#32
  | 96 => 0xBF708FB2#32
  | 97 => 0xBEE273AA#32
  | 98 => 0x3E99F61C#32
  | 99 => 0x3F60712A#32
  | 100 => 0x3F7746EA#32
  | 101 => 0x3F04CE53#32
  | 102 => 0xBE5DA259#32
  | 103 => 0xBF54DB31#32
  | 104 => 0xBF7C1C5C#32
  | 105 => 0xBF176012#32
  | 106 => 0x3E05A8A8#32
  | 107 => 0x3F47A682#32
  | 108 => 0x3F7F069E#32
  | 109 => 0x3F28CAE3#32
  | 110 => 0xBD32AA3E#32
  | 111 => 0xBF38ECD8#32
  | 112 => 0xBF800000#32
  | 113 => 0xBF38ECD8#32
  | 114 => 0xBD32AA3E#32
  | 115 => 0x3F28CAE3#32
  | 116 => 0x3F7F069E#32
  | 117 => 0x3F47A682#32
  | 118 => 0x3E05A8A8#32
  | 119 => 0xBF176012#32
  | 120 => 0xBF7C1C5C#32
  | 121 => 0xBF54DB31#32
  | 122 => 0xBE5DA259#32
  | 123 => 0x3F04CE53#32
  | 124 => 0x3F7746EA#32
  | 125 => 0x3F60712A#32
  | 126 => 0x3E99F61C#32
  | 127 => 0xBEE273AA#32
  | _ => 0#32

noncomputable abbrev lit0t0_80 (i : Nat) : BitVec 32 := match i % 128 with
  | 0 => 0xBF708FB2#32
  | 1 => 0xBF6A51DA#32
  | 2 => 0xBEC3EF15#32
  | 3 => 0x3EB9917B#32
  | 4 => 0x3F6803CA#32
  | 5 => 0x3F726A03#32
  | 6 => 0x3EEC6A50#32
  | 7 => 0xBE8F45C0#32
  | 8 => 0xBF5DB3D7#32
  | 9 => 0xBF78A9E0#32
  | 10 => 0xBF098C78#32
  | 11 => 0x3E47C5C2#32
  | 12 => 0x3F51B3F3#32
  | 13 => 0x3F7D0543#32
  | 14 => 0x3F1BD7CA#32
  | 15 => 0xBDDEF599#32
  | 16 => 0xBF441B7D#32
  | 17 => 0xBF7F73AF#32
  | 18 => 0xBF2CF37B#32
  | 19 => 0x3CB2B521#32
  | 20 => 0x3F3504F3#32
  | 21 => 0x3F7FF067#32
  | 22 => 0x3F3CBE35#32
  | 23 => 0x3D85F213#32
  | 24 => 0xBF248DBB#32
  | 25 => 0xBF7E7A7A#32
  | 26 => 0xBF4B1934#32
  | 27 => 0xBE1BC63C#32
  | 28 => 0x3F12D5E8#32
  | 29 => 0x3F7B14BE#32
  | 30 => 0x3F57E880#32
  | 31 => 0x3E7363EE#32
  | 32 => 0xBF000000#32
  | 33 => 0xBF75C5D4#32
  | 34 => 0xBF631324#32
  | 35 => 0xBEA493B7#32
  | 36 => 0x3ED8616C#32
  | 37 => 0x3F6E9811#32
  | 38 => 0x3F6C835E#32
  | 39 => 0x3ECE34D0#32
  | 40 => 0xBEAF1D44#32
  | 41 => 0xBF659974#32
  | 42 => 0xBF7426CB#32
  | 43 => 0xBEF64429#32
  | 44 => 0x3E8483EE#32
  | 45 => 0x3F5ADB81#32
  | 46 => 0x3F79EE89#32
  | 47 => 0x3F0E39DA#32
  | 48 => 0xBE31D0D4#32
  | 49 => 0xBF4E7327#32
  | 50 => 0xBF7DCF55#32
  | 51 => 0xBF203C85#32
  | 52 => 0x3DB27EB6#32
  | 53 => 0x3F407893#32
  | 54 => 0x3F7FC1A0#32
  | 55 => 0x3F310700#32
  | 56 => 0x248D3132#32
  | 57 => 0xBF310700#32
  | 58 => 0xBF7FC1A0#32
  | 59 => 0xBF407893#32
  | 60 => 0xBDB27EB6#32
  | 61 => 0x3F203C85#32
  | 62 => 0x3F7DCF55#32
  | 63 => 0x3F4E7327#32
  | 64 => 0x3E31D0D4#32
  | 65 => 0xBF0E39DA#32
  | 66 => 0xBF79EE89#32
  | 67 => 0xBF5ADB81#32
  | 68 => 0xBE8483EE#32
  | 69 => 0x3EF64429#32
  | 70 => 0x3F7426CB#32
  | 71 => 0x3F659974#32
  | 72 => 0x3EAF1D44#32
  | 73 => 0xBECE34D0#32
  | 74 => 0xBF6C835E#32
  | 75 => 0xBF6E9811#32
  | 76 => 0xBED8616C#32
  | 77 => 0x3EA493B7#32
  | 78 => 0x3F631324#32
  | 79 => 0x3F75C5D4#32
  | 80 => 0x3F000000#32
  | 81 => 0xBE7363EE#32
  | 82 => 0xBF57E880#32
  | 83 => 0xBF7B14BE#32
  | 84 => 0xBF12D5E8#32
  | 85 => 0x3E1BC63C#32
  | 86 => 0x3F4B1934#32
  | 87 => 0x3F7E7A7A#32
  | 88 => 0x3F248DBB#32
  | 89 => 0xBD85F213#32
  | 90 => 0xBF3CBE35#32
  | 91 => 0xBF7FF067#32
  | 92 => 0xBF3504F3#32
  | 93 => 0xBCB2B521#32
  | 94 => 0x3F2CF37B#32
  | 95 => 0x3F7F73AF#32
  | 96 => 0x3F441B7D#32
  | 97 => 0x3DDEF599#32
  | 98 => 0xBF1BD7CA#32
  | 99 => 0xBF7D0543#32
  | 100 => 0xBF51B3F3#32
  | 101 => 0xBE47C5C2#32
  | 102 => 0x3F098C78#32
  | 103 => 0x3F78A9E0#32
  | 104 => 0x3F5DB3D7#32
  | 105 => 0x3E8F45C0#32
  | 106 => 0xBEEC6A50#32
  | 107 => 0xBF726A03#32
  | 108 => 0xBF6803CA#32
  | 109 => 0xBEB9917B#32
  | 110 => 0x3EC3EF15#32
  | 111 => 0x3F6A51DA#32
  | 112 => 0x3F708FB2#32
  | 113 => 0x3EE273AA#32
  | 114 => 0xBE99F61C#32
  | 115 => 0xBF60712A#32
  | 116 => 0xBF7746EA#32
  | 117 => 0xBF04CE53#32
  | 118 => 0x3E5DA259#32
  | 119 => 0x3F54DB31#32
  | 120 => 0x3F7C1C5C#32
  | 121 => 0x3F176012#32
  | 122 => 0xBE05A8A8#32
  | 123 => 0xBF47A682#32
  | 124 => 0xBF7F069E#32
  | 125 => 0xBF28CAE3#32
  | 126 => 0x3D32AA3E#32
  | 127 => 0x3F38ECD8#32
  | _ => 0#32

noncomputable abbrev lit0t0_81 (i : Nat) : BitVec 32 := match i % 128 with
  | 0 => 0x3F800000#32
  | 1 => 0x3F3504F3#32
  | 2 => 0x248D3132#32
  | 3 => 0xBF3504F3#32
  | 4 => 0xBF800000#32
  | 5 => 0xBF3504F3#32
  | 6 => 0xA553C9CA#32
  | 7 => 0x3F3504F3#32
  | 8 => 0x3F800000#32
  | 9 => 0x3F3504F3#32
  | 10 => 0x248D3132#32
  | 11 => 0xBF3504F3#32
  | 12 => 0xBF800000#32
  | 13 => 0xBF3504F3#32
  | 14 => 0xA553C9CA#32
  | 15 => 0x3F3504F3#32
  | 16 => 0x3F800000#32
  | 17 => 0x3F3504F3#32
  | 18 => 0x248D3132#32
  | 19 => 0xBF3504F3#32
  | 20 => 0xBF800000#32
  | 21 => 0xBF3504F3#32
  | 22 => 0xA553C9CA#32
  | 23 => 0x3F3504F3#32
  | 24 => 0x3F800000#32
  | 25 => 0x3F3504F3#32
  | 26 => 0x248D3132#32
  | 27 => 0xBF3504F3#32
  | 28 => 0xBF800000#32
  | 29 => 0xBF3504F3#32
  | 30 => 0xA553C9CA#32
  | 31 => 0x3F3504F3#32
  | 32 => 0x3F800000#32
  | 33 => 0x3F3504F3#32
  | 34 => 0x248D3132#32
  | 35 => 0xBF3504F3#32
  | 36 => 0xBF800000#32
  | 37 => 0xBF3504F3#32
  | 38 => 0xA553C9CA#32
  | 39 => 0x3F3504F3#32
  | 40 => 0x3F800000#32
  | 41 => 0x3F3504F3#32
  | 42 => 0x248D3132#32
  | 43 => 0xBF3504F3#32
  | 44 => 0xBF800000#32
  | 45 => 0xBF3504F3#32
  | 46 => 0xA553C9CA#32
  | 47 => 0x3F3504F3#32
  | 48 => 0x3F800000#32
  | 49 => 0x3F3504F3#32
  | 50 => 0x248D3132#32
  | 51 => 0xBF3504F3#32
  | 52 => 0xBF800000#32
  | 53 => 0xBF3504F3#32
  | 54 => 0xA553C9CA#32
  | 55 => 0x3F3504F3#32
  | 56 => 0x3F800000#32
  | 57 => 0x3F3504F3#32
  | 58 => 0x248D3132#32
  | 59 => 0xBF3504F3#32
  | 60 => 0xBF800000#32
  | 61 => 0xBF3504F3#32
  | 62 => 0xA553C9CA#32
  | 63 => 0x3F3504F3#32
  | 64 => 0x3F800000#32
  | 65 => 0x3F3504F3#32
  | 66 => 0x248D3132#32
  | 67 => 0xBF3504F3#32
  | 68 => 0xBF800000#32
  | 69 => 0xBF3504F3#32
  | 70 => 0xA553C9CA#32
  | 71 => 0x3F3504F3#32
  | 72 => 0x3F800000#32
  | 73 => 0x3F3504F3#32
  | 74 => 0x248D3132#32
  | 75 => 0xBF3504F3#32
  | 76 => 0xBF800000#32
  | 77 => 0xBF3504F3#32
  | 78 => 0xA553C9CA#32
  | 79 => 0x3F3504F3#32
  | 80 => 0x3F800000#32
  | 81 => 0x3F3504F3#32
  | 82 => 0x248D3132#32
  | 83 => 0xBF3504F3#32
  | 84 => 0xBF800000#32
  | 85 => 0xBF3504F3#32
  | 86 => 0xA553C9CA#32
  | 87 => 0x3F3504F3#32
  | 88 => 0x3F800000#32
  | 89 => 0x3F3504F3#32
  | 90 => 0x248D3132#32
  | 91 => 0xBF3504F3#32
  | 92 => 0xBF800000#32
  | 93 => 0xBF3504F3#32
  | 94 => 0xA553C9CA#32
  | 95 => 0x3F3504F3#32
  | 96 => 0x3F800000#32
  | 97 => 0x3F3504F3#32
  | 98 => 0x248D3132#32
  | 99 => 0xBF3504F3#32
  | 100 => 0xBF800000#32
  | 101 => 0xBF3504F3#32
  | 102 => 0xA553C9CA#32
  | 103 => 0x3F3504F3#32
  | 104 => 0x3F800000#32
  | 105 => 0x3F3504F3#32
  | 106 => 0x248D3132#32
  | 107 => 0xBF3504F3#32
  | 108 => 0xBF800000#32
  | 109 => 0xBF3504F3#32
  | 110 => 0xA553C9CA#32
  | 111 => 0x3F3504F3#32
  | 112 => 0x3F800000#32
  | 113 => 0x3F3504F3#32
  | 114 => 0x248D3132#32
  | 115 => 0xBF3504F3#32
  | 116 => 0xBF800000#32
  | 117 => 0xBF3504F3#32
  | 118 => 0xA553C9CA#32
  | 119 => 0x3F3504F3#32
  | 120 => 0x3F800000#32
  | 121 => 0x3F3504F3#32
  | 122 => 0x248D3132#32
  | 123 => 0xBF3504F3#32
  | 124 => 0xBF800000#32
  | 125 => 0xBF3504F3#32
  | 126 => 0xA553C9CA#32
  | 127 => 0x3F3504F3#32
  | _ => 0#32

noncomputable abbrev lit0t0_82 (i : Nat) : BitVec 32 := match i % 128 with
  | 0 => 0x3F800000#32
  | 1 => 0x3F3504F3#32
  | 2 => 0x248D3132#32
  | 3 => 0xBF3504F3#32
  | 4 => 0xBF800000#32
  | 5 => 0xBF3504F3#32
  | 6 => 0xA553C9CA#32
  | 7 => 0x3F3504F3#32
  | 8 => 0x3F800000#32
  | 9 => 0x3F3504F3#32
  | 10 => 0x248D3132#32
  | 11 => 0xBF3504F3#32
  | 12 => 0xBF800000#32
  | 13 => 0xBF3504F3#32
  | 14 => 0xA553C9CA#32
  | 15 => 0x3F3504F3#32
  | 16 => 0x3F800000#32
  | 17 => 0x3F3504F3#32
  | 18 => 0x248D3132#32
  | 19 => 0xBF3504F3#32
  | 20 => 0xBF800000#32
  | 21 => 0xBF3504F3#32
  | 22 => 0xA553C9CA#32
  | 23 => 0x3F3504F3#32
  | 24 => 0x3F800000#32
  | 25 => 0x3F3504F3#32
  | 26 => 0x248D3132#32
  | 27 => 0xBF3504F3#32
  | 28 => 0xBF800000#32
  | 29 => 0xBF3504F3#32
  | 30 => 0xA553C9CA#32
  | 31 => 0x3F3504F3#32
  | 32 => 0x3F800000#32
  | 33 => 0x3F3504F3#32
  | 34 => 0x248D3132#32
  | 35 => 0xBF3504F3#32
  | 36 => 0xBF800000#32
  | 37 => 0xBF3504F3#32
  | 38 => 0xA553C9CA#32
  | 39 => 0x3F3504F3#32
  | 40 => 0x3F800000#32
  | 41 => 0x3F3504F3#32
  | 42 => 0x248D3132#32
  | 43 => 0xBF3504F3#32
  | 44 => 0xBF800000#32
  | 45 => 0xBF3504F3#32
  | 46 => 0xA553C9CA#32
  | 47 => 0x3F3504F3#32
  | 48 => 0x3F800000#32
  | 49 => 0x3F3504F3#32
  | 50 => 0x248D3132#32
  | 51 => 0xBF3504F3#32
  | 52 => 0xBF800000#32
  | 53 => 0xBF3504F3#32
  | 54 => 0xA553C9CA#32
  | 55 => 0x3F3504F3#32
  | 56 => 0x3F800000#32
  | 57 => 0x3F3504F3#32
  | 58 => 0x248D3132#32
  | 59 => 0xBF3504F3#32
  | 60 => 0xBF800000#32
  | 61 => 0xBF3504F3#32
  | 62 => 0xA553C9CA#32
  | 63 => 0x3F3504F3#32
  | 64 => 0x3F800000#32
  | 65 => 0x3F3504F3#32
  | 66 => 0x248D3132#32
  | 67 => 0xBF3504F3#32
  | 68 => 0xBF800000#32
  | 69 => 0xBF3504F3#32
  | 70 => 0xA553C9CA#32
  | 71 => 0x3F3504F3#32
  | 72 => 0x3F800000#32
  | 73 => 0x3F3504F3#32
  | 74 => 0x248D3132#32
  | 75 => 0xBF3504F3#32
  | 76 => 0xBF800000#32
  | 77 => 0xBF3504F3#32
  | 78 => 0xA553C9CA#32
  | 79 => 0x3F3504F3#32
  | 80 => 0x3F800000#32
  | 81 => 0x3F3504F3#32
  | 82 => 0x248D3132#32
  | 83 => 0xBF3504F3#32
  | 84 => 0xBF800000#32
  | 85 => 0xBF3504F3#32
  | 86 => 0xA553C9CA#32
  | 87 => 0x3F3504F3#32
  | 88 => 0x3F800000#32
  | 89 => 0x3F3504F3#32
  | 90 => 0x248D3132#32
  | 91 => 0xBF3504F3#32
  | 92 => 0xBF800000#32
  | 93 => 0xBF3504F3#32
  | 94 => 0xA553C9CA#32
  | 95 => 0x3F3504F3#32
  | 96 => 0x3F800000#32
  | 97 => 0x3F3504F3#32
  | 98 => 0x248D3132#32
  | 99 => 0xBF3504F3#32
  | 100 => 0xBF800000#32
  | 101 => 0xBF3504F3#32
  | 102 => 0xA553C9CA#32
  | 103 => 0x3F3504F3#32
  | 104 => 0x3F800000#32
  | 105 => 0x3F3504F3#32
  | 106 => 0x248D3132#32
  | 107 => 0xBF3504F3#32
  | 108 => 0xBF800000#32
  | 109 => 0xBF3504F3#32
  | 110 => 0xA553C9CA#32
  | 111 => 0x3F3504F3#32
  | 112 => 0x3F800000#32
  | 113 => 0x3F3504F3#32
  | 114 => 0x248D3132#32
  | 115 => 0xBF3504F3#32
  | 116 => 0xBF800000#32
  | 117 => 0xBF3504F3#32
  | 118 => 0xA553C9CA#32
  | 119 => 0x3F3504F3#32
  | 120 => 0x3F800000#32
  | 121 => 0x3F3504F3#32
  | 122 => 0x248D3132#32
  | 123 => 0xBF3504F3#32
  | 124 => 0xBF800000#32
  | 125 => 0xBF3504F3#32
  | 126 => 0xA553C9CA#32
  | 127 => 0x3F3504F3#32
  | _ => 0#32

noncomputable abbrev lit0t0_83 (i : Nat) : BitVec 32 := match i % 128 with
  | 0 => 0x3F800000#32
  | 1 => 0x3F3504F3#32
  | 2 => 0x248D3132#32
  | 3 => 0xBF3504F3#32
  | 4 => 0xBF800000#32
  | 5 => 0xBF3504F3#32
  | 6 => 0xA553C9CA#32
  | 7 => 0x3F3504F3#32
  | 8 => 0x3F800000#32
  | 9 => 0x3F3504F3#32
  | 10 => 0x248D3132#32
  | 11 => 0xBF3504F3#32
  | 12 => 0xBF800000#32
  | 13 => 0xBF3504F3#32
  | 14 => 0xA553C9CA#32
  | 15 => 0x3F3504F3#32
  | 16 => 0x3F800000#32
  | 17 => 0x3F3504F3#32
  | 18 => 0x248D3132#32
  | 19 => 0xBF3504F3#32
  | 20 => 0xBF800000#32
  | 21 => 0xBF3504F3#32
  | 22 => 0xA553C9CA#32
  | 23 => 0x3F3504F3#32
  | 24 => 0x3F800000#32
  | 25 => 0x3F3504F3#32
  | 26 => 0x248D3132#32
  | 27 => 0xBF3504F3#32
  | 28 => 0xBF800000#32
  | 29 => 0xBF3504F3#32
  | 30 => 0xA553C9CA#32
  | 31 => 0x3F3504F3#32
  | 32 => 0x3F800000#32
  | 33 => 0x3F310700#32
  | 34 => 0xBD32AA3E#32
  | 35 => 0xBF407893#32
  | 36 => 0xBF7F069E#32
  | 37 => 0xBF203C85#32
  | 38 => 0x3E05A8A8#32
  | 39 => 0x3F4E7327#32
  | 40 => 0x3F7C1C5C#32
  | 41 => 0x3F0E39DA#32
  | 42 => 0xBE5DA259#32
  | 43 => 0xBF5ADB81#32
  | 44 => 0xBF7746EA#32
  | 45 => 0xBEF64429#32
  | 46 => 0x3E99F61C#32
  | 47 => 0x3F659974#32
  | 48 => 0x3F708FB2#32
  | 49 => 0x3ECE34D0#32
  | 50 => 0xBEC3EF15#32
  | 51 => 0xBF6E9811#32
  | 52 => 0xBF6803CA#32
  | 53 => 0xBEA493B7#32
  | 54 => 0x3EEC6A50#32
  | 55 => 0x3F75C5D4#32
  | 56 => 0x3F5DB3D7#32
  | 57 => 0x3E7363EE#32
  | 58 => 0xBF098C78#32
  | 59 => 0xBF7B14BE#32
  | 60 => 0xBF51B3F3#32
  | 61 => 0xBE1BC63C#32
  | 62 => 0x3F1BD7CA#32
  | 63 => 0x3F7E7A7A#32
  | 64 => 0x3F441B7D#32
  | 65 => 0x3D85F213#32
  | 66 => 0xBF2CF37B#32
  | 67 => 0xBF7FF067#32
  | 68 => 0xBF3504F3#32
  | 69 => 0x3CB2B521#32
  | 70 => 0x3F3CBE35#32
  | 71 => 0x3F7F73AF#32
  | 72 => 0x3F248DBB#32
  | 73 => 0xBDDEF599#32
  | 74 => 0xBF4B1934#32
  | 75 => 0xBF7D0543#32
  | 76 => 0xBF12D5E8#32
  | 77 => 0x3E47C5C2#32
  | 78 => 0x3F57E880#32
  | 79 => 0x3F78A9E0#32
  | 80 => 0x3F000000#32
  | 81 => 0xBE8F45C0#32
  | 82 => 0xBF631324#32
  | 83 => 0xBF726A03#32
  | 84 => 0xBED8616C#32
  | 85 => 0x3EB9917B#32
  | 86 => 0x3F6C835E#32
  | 87 => 0x3F6A51DA#32
  | 88 => 0x3EAF1D44#32
  | 89 => 0xBEE273AA#32
  | 90 => 0xBF7426CB#32
  | 91 => 0xBF60712A#32
  | 92 => 0xBE8483EE#32
  | 93 => 0x3F04CE53#32
  | 94 => 0x3F79EE89#32
  | 95 => 0x3F54DB31#32
  | 96 => 0x3E31D0D4#32
  | 97 => 0xBF176012#32
  | 98 => 0xBF7DCF55#32
  | 99 => 0xBF47A682#32
  | 100 => 0xBDB27EB6#32
  | 101 => 0x3F28CAE3#32
  | 102 => 0x3F7FC1A0#32
  | 103 => 0x3F38ECD8#32
  | 104 => 0x248D3132#32
  | 105 => 0xBF38ECD8#32
  | 106 => 0xBF7FC1A0#32
  | 107 => 0xBF28CAE3#32
  | 108 => 0x3DB27EB6#32
  | 109 => 0x3F47A682#32
  | 110 => 0x3F7DCF55#32
  | 111 => 0x3F176012#32
  | 112 => 0xBE31D0D4#32
  | 113 => 0xBF54DB31#32
  | 114 => 0xBF79EE89#32
  | 115 => 0xBF04CE53#32
  | 116 => 0x3E8483EE#32
  | 117 => 0x3F60712A#32
  | 118 => 0x3F7426CB#32
  | 119 => 0x3EE273AA#32
  | 120 => 0xBEAF1D44#32
  | 121 => 0xBF6A51DA#32
  | 122 => 0xBF6C835E#32
  | 123 => 0xBEB9917B#32
  | 124 => 0x3ED8616C#32
  | 125 => 0x3F726A03#32
  | 126 => 0x3F631324#32
  | 127 => 0x3E8F45C0#32
  | _ => 0#32

noncomputable abbrev lit0t0_84 (i : Nat) : BitVec 32 := match i % 128 with
  | 0 => 0xBF000000#32
  | 1 => 0xBF78A9E0#32
  | 2 => 0xBF57E880#32
  | 3 => 0xBE47C5C2#32
  | 4 => 0x3F12D5E8#32
  | 5 => 0x3F7D0543#32
  | 6 => 0x3F4B1934#32
  | 7 => 0x3DDEF599#32
  | 8 => 0xBF248DBB#32
  | 9 => 0xBF7F73AF#32
  | 10 => 0xBF3CBE35#32
  | 11 => 0xBCB2B521#32
  | 12 => 0x3F3504F3#32
  | 13 => 0x3F7FF067#32
  | 14 => 0x3F2CF37B#32
  | 15 => 0xBD85F213#32
  | 16 => 0xBF441B7D#32
  | 17 => 0xBF7E7A7A#32
  | 18 => 0xBF1BD7CA#32
  | 19 => 0x3E1BC63C#32
  | 20 => 0x3F51B3F3#32
  | 21 => 0x3F7B14BE#32
  | 22 => 0x3F098C78#32
  | 23 => 0xBE7363EE#32
  | 24 => 0xBF5DB3D7#32
  | 25 => 0xBF75C5D4#32
  | 26 => 0xBEEC6A50#32
  | 27 => 0x3EA493B7#32
  | 28 => 0x3F6803CA#32
  | 29 => 0x3F6E9811#32
  | 30 => 0x3EC3EF15#32
  | 31 => 0xBECE34D0#32
  | 32 => 0xBF708FB2#32
  | 33 => 0xBF659974#32
  | 34 => 0xBE99F61C#32
  | 35 => 0x3EF64429#32
  | 36 => 0x3F7746EA#32
  | 37 => 0x3F5ADB81#32
  | 38 => 0x3E5DA259#32
  | 39 => 0xBF0E39DA#32
  | 40 => 0xBF7C1C5C#32
  | 41 => 0xBF4E7327#32
  | 42 => 0xBE05A8A8#32
  | 43 => 0x3F203C85#32
  | 44 => 0x3F7F069E#32
  | 45 => 0x3F407893#32
  | 46 => 0x3D32AA3E#32
  | 47 => 0xBF310700#32
  | 48 => 0xBF800000#32
  | 49 => 0xBF310700#32
  | 50 => 0x3D32AA3E#32
  | 51 => 0x3F407893#32
  | 52 => 0x3F7F069E#32
  | 53 => 0x3F203C85#32
  | 54 => 0xBE05A8A8#32
  | 55 => 0xBF4E7327#32
  | 56 => 0xBF7C1C5C#32
  | 57 => 0xBF0E39DA#32
  | 58 => 0x3E5DA259#32
  | 59 => 0x3F5ADB81#32
  | 60 => 0x3F7746EA#32
  | 61 => 0x3EF64429#32
  | 62 => 0xBE99F61C#32
  | 63 => 0xBF659974#32
  | 64 => 0xBF708FB2#32
  | 65 => 0xBECE34D0#32
  | 66 => 0x3EC3EF15#32
  | 67 => 0x3F6E9811#32
  | 68 => 0x3F6803CA#32
  | 69 => 0x3EA493B7#32
  | 70 => 0xBEEC6A50#32
  | 71 => 0xBF75C5D4#32
  | 72 => 0xBF5DB3D7#32
  | 73 => 0xBE7363EE#32
  | 74 => 0x3F098C78#32
  | 75 => 0x3F7B14BE#32
  | 76 => 0x3F51B3F3#32
  | 77 => 0x3E1BC63C#32
  | 78 => 0xBF1BD7CA#32
  | 79 => 0xBF7E7A7A#32
  | 80 => 0xBF441B7D#32
  | 81 => 0xBD85F213#32
  | 82 => 0x3F2CF37B#32
  | 83 => 0x3F7FF067#32
  | 84 => 0x3F3504F3#32
  | 85 => 0xBCB2B521#32
  | 86 => 0xBF3CBE35#32
  | 87 => 0xBF7F73AF#32
  | 88 => 0xBF248DBB#32
  | 89 => 0x3DDEF599#32
  | 90 => 0x3F4B1934#32
  | 91 => 0x3F7D0543#32
  | 92 => 0x3F12D5E8#32
  | 93 => 0xBE47C5C2#32
  | 94 => 0xBF57E880#32
  | 95 => 0xBF78A9E0#32
  | 96 => 0xBF000000#32
  | 97 => 0x3E8F45C0#32
  | 98 => 0x3F631324#32
  | 99 => 0x3F726A03#32
  | 100 => 0x3ED8616C#32
  | 101 => 0xBEB9917B#32
  | 102 => 0xBF6C835E#32
  | 103 => 0xBF6A51DA#32
  | 104 => 0xBEAF1D44#32
  | 105 => 0x3EE273AA#32
  | 106 => 0x3F7426CB#32
  | 107 => 0x3F60712A#32
  | 108 => 0x3E8483EE#32
  | 109 => 0xBF04CE53#32
  | 110 => 0xBF79EE89#32
  | 111 => 0xBF54DB31#32
  | 112 => 0xBE31D0D4#32
  | 113 => 0x3F176012#32
  | 114 => 0x3F7DCF55#32
  | 115 => 0x3F47A682#32
  | 116 => 0x3DB27EB6#32
  | 117 => 0xBF28CAE3#32
  | 118 => 0xBF7FC1A0#32
  | 119 => 0xBF38ECD8#32
  | 120 => 0xA553C9CA#32
  | 121 => 0x3F38ECD8#32
  | 122 => 0x3F7FC1A0#32
  | 123 => 0x3F28CAE3#32
  | 124 => 0xBDB27EB6#32
  | 125 => 0xBF47A682#32
  | 126 => 0xBF7DCF55#32
  | 127 => 0xBF176012#32
  | _ => 0#32

noncomputable abbrev lit0t0_85 (i : Nat) : BitVec 32 := match i % 128 with
  | 0 => 0x3E31D0D4#32
  | 1 => 0x3F54DB31#32
  | 2 => 0x3F79EE89#32
  | 3 => 0x3F04CE53#32
  | 4 => 0xBE8483EE#32
  | 5 => 0xBF60712A#32
  | 6 => 0xBF7426CB#32
  | 7 => 0xBEE273AA#32
  | 8 => 0x3EAF1D44#32
  | 9 => 0x3F6A51DA#32
  | 10 => 0x3F6C835E#32
  | 11 => 0x3EB9917B#32
  | 12 => 0xBED8616C#32
  | 13 => 0xBF726A03#32
  | 14 => 0xBF631324#32
  | 15 => 0xBE8F45C0#32
  | 16 => 0x3F000000#32
  | 17 => 0x3F78A9E0#32
  | 18 => 0x3F57E880#32
  | 19 => 0x3E47C5C2#32
  | 20 => 0xBF12D5E8#32
  | 21 => 0xBF7D0543#32
  | 22 => 0xBF4B1934#32
  | 23 => 0xBDDEF599#32
  | 24 => 0x3F248DBB#32
  | 25 => 0x3F7F73AF#32
  | 26 => 0x3F3CBE35#32
  | 27 => 0x3CB2B521#32
  | 28 => 0xBF3504F3#32
  | 29 => 0xBF7FF067#32
  | 30 => 0xBF2CF37B#32
  | 31 => 0x3D85F213#32
  | 32 => 0x3F441B7D#32
  | 33 => 0x3F7E7A7A#32
  | 34 => 0x3F1BD7CA#32
  | 35 => 0xBE1BC63C#32
  | 36 => 0xBF51B3F3#32
  | 37 => 0xBF7B14BE#32
  | 38 => 0xBF098C78#32
  | 39 => 0x3E7363EE#32
  | 40 => 0x3F5DB3D7#32
  | 41 => 0x3F75C5D4#32
  | 42 => 0x3EEC6A50#32
  | 43 => 0xBEA493B7#32
  | 44 => 0xBF6803CA#32
  | 45 => 0xBF6E9811#32
  | 46 => 0xBEC3EF15#32
  | 47 => 0x3ECE34D0#32
  | 48 => 0x3F708FB2#32
  | 49 => 0x3F659974#32
  | 50 => 0x3E99F61C#32
  | 51 => 0xBEF64429#32
  | 52 => 0xBF7746EA#32
  | 53 => 0xBF5ADB81#32
  | 54 => 0xBE5DA259#32
  | 55 => 0x3F0E39DA#32
  | 56 => 0x3F7C1C5C#32
  | 57 => 0x3F4E7327#32
  | 58 => 0x3E05A8A8#32
  | 59 => 0xBF203C85#32
  | 60 => 0xBF7F069E#32
  | 61 => 0xBF407893#32
  | 62 => 0xBD32AA3E#32
  | 63 => 0x3F310700#32
  | 64 => 0x3F800000#32
  | 65 => 0x3F2CF37B#32
  | 66 => 0xBDB27EB6#32
  | 67 => 0xBF4B1934#32
  | 68 => 0xBF7C1C5C#32
  | 69 => 0xBF098C78#32
  | 70 => 0x3E8483EE#32
  | 71 => 0x3F631324#32
  | 72 => 0x3F708FB2#32
  | 73 => 0x3EC3EF15#32
  | 74 => 0xBED8616C#32
  | 75 => 0xBF7426CB#32
  | 76 => 0xBF5DB3D7#32
  | 77 => 0xBE5DA259#32
  | 78 => 0x3F12D5E8#32
  | 79 => 0x3F7DCF55#32
  | 80 => 0x3F441B7D#32
  | 81 => 0x3D32AA3E#32
  | 82 => 0xBF3504F3#32
  | 83 => 0xBF7FC1A0#32
  | 84 => 0xBF248DBB#32
  | 85 => 0x3E05A8A8#32
  | 86 => 0x3F51B3F3#32
  | 87 => 0x3F79EE89#32
  | 88 => 0x3F000000#32
  | 89 => 0xBE99F61C#32
  | 90 => 0xBF6803CA#32
  | 91 => 0xBF6C835E#32
  | 92 => 0xBEAF1D44#32
  | 93 => 0x3EEC6A50#32
  | 94 => 0x3F7746EA#32
  | 95 => 0x3F57E880#32
  | 96 => 0x3E31D0D4#32
  | 97 => 0xBF1BD7CA#32
  | 98 => 0xBF7F069E#32
  | 99 => 0xBF3CBE35#32
  | 100 => 0xA553C9CA#32
  | 101 => 0x3F3CBE35#32
  | 102 => 0x3F7F069E#32
  | 103 => 0x3F1BD7CA#32
  | 104 => 0xBE31D0D4#32
  | 105 => 0xBF57E880#32
  | 106 => 0xBF7746EA#32
  | 107 => 0xBEEC6A50#32
  | 108 => 0x3EAF1D44#32
  | 109 => 0x3F6C835E#32
  | 110 => 0x3F6803CA#32
  | 111 => 0x3E99F61C#32
  | 112 => 0xBF000000#32
  | 113 => 0xBF79EE89#32
  | 114 => 0xBF51B3F3#32
  | 115 => 0xBE05A8A8#32
  | 116 => 0x3F248DBB#32
  | 117 => 0x3F7FC1A0#32
  | 118 => 0x3F3504F3#32
  | 119 => 0xBD32AA3E#32
  | 120 => 0xBF441B7D#32
  | 121 => 0xBF7DCF55#32
  | 122 => 0xBF12D5E8#32
  | 123 => 0x3E5DA259#32
  | 124 => 0x3F5DB3D7#32
  | 125 => 0x3F7426CB#32
  | 126 => 0x3ED8616C#32
  | 127 => 0xBEC3EF15#32
  | _ => 0#32

noncomputable abbrev lit0t0_86 (i : Nat) : BitVec 32 := match i % 128 with
  | 0 => 0xBF708FB2#32
  | 1 => 0xBF631324#32
  | 2 => 0xBE8483EE#32
  | 3 => 0x3F098C78#32
  | 4 => 0x3F7C1C5C#32
  | 5 => 0x3F4B1934#32
  | 6 => 0x3DB27EB6#32
  | 7 => 0xBF2CF37B#32
  | 8 => 0xBF800000#32
  | 9 => 0xBF2CF37B#32
  | 10 => 0x3DB27EB6#32
  | 11 => 0x3F4B1934#32
  | 12 => 0x3F7C1C5C#32
  | 13 => 0x3F098C78#32
  | 14 => 0xBE8483EE#32
  | 15 => 0xBF631324#32
  | 16 => 0xBF708FB2#32
  | 17 => 0xBEC3EF15#32
  | 18 => 0x3ED8616C#32
  | 19 => 0x3F7426CB#32
  | 20 => 0x3F5DB3D7#32
  | 21 => 0x3E5DA259#32
  | 22 => 0xBF12D5E8#32
  | 23 => 0xBF7DCF55#32
  | 24 => 0xBF441B7D#32
  | 25 => 0xBD32AA3E#32
  | 26 => 0x3F3504F3#32
  | 27 => 0x3F7FC1A0#32
  | 28 => 0x3F248DBB#32
  | 29 => 0xBE05A8A8#32
  | 30 => 0xBF51B3F3#32
  | 31 => 0xBF79EE89#32
  | 32 => 0xBF000000#32
  | 33 => 0x3E99F61C#32
  | 34 => 0x3F6803CA#32
  | 35 => 0x3F6C835E#32
  | 36 => 0x3EAF1D44#32
  | 37 => 0xBEEC6A50#32
  | 38 => 0xBF7746EA#32
  | 39 => 0xBF57E880#32
  | 40 => 0xBE31D0D4#32
  | 41 => 0x3F1BD7CA#32
  | 42 => 0x3F7F069E#32
  | 43 => 0x3F3CBE35#32
  | 44 => 0x248D3132#32
  | 45 => 0xBF3CBE35#32
  | 46 => 0xBF7F069E#32
  | 47 => 0xBF1BD7CA#32
  | 48 => 0x3E31D0D4#32
  | 49 => 0x3F57E880#32
  | 50 => 0x3F7746EA#32
  | 51 => 0x3EEC6A50#32
  | 52 => 0xBEAF1D44#32
  | 53 => 0xBF6C835E#32
  | 54 => 0xBF6803CA#32
  | 55 => 0xBE99F61C#32
  | 56 => 0x3F000000#32
  | 57 => 0x3F79EE89#32
  | 58 => 0x3F51B3F3#32
  | 59 => 0x3E05A8A8#32
  | 60 => 0xBF248DBB#32
  | 61 => 0xBF7FC1A0#32
  | 62 => 0xBF3504F3#32
  | 63 => 0x3D32AA3E#32
  | 64 => 0x3F441B7D#32
  | 65 => 0x3F7DCF55#32
  | 66 => 0x3F12D5E8#32
  | 67 => 0xBE5DA259#32
  | 68 => 0xBF5DB3D7#32
  | 69 => 0xBF7426CB#32
  | 70 => 0xBED8616C#32
  | 71 => 0x3EC3EF15#32
  | 72 => 0x3F708FB2#32
  | 73 => 0x3F631324#32
  | 74 => 0x3E8483EE#32
  | 75 => 0xBF098C78#32
  | 76 => 0xBF7C1C5C#32
  | 77 => 0xBF4B1934#32
  | 78 => 0xBDB27EB6#32
  | 79 => 0x3F2CF37B#32
  | 80 => 0x3F800000#32
  | 81 => 0x3F2CF37B#32
  | 82 => 0xBDB27EB6#32
  | 83 => 0xBF4B1934#32
  | 84 => 0xBF7C1C5C#32
  | 85 => 0xBF098C78#32
  | 86 => 0x3E8483EE#32
  | 87 => 0x3F631324#32
  | 88 => 0x3F708FB2#32
  | 89 => 0x3EC3EF15#32
  | 90 => 0xBED8616C#32
  | 91 => 0xBF7426CB#32
  | 92 => 0xBF5DB3D7#32
  | 93 => 0xBE5DA259#32
  | 94 => 0x3F12D5E8#32
  | 95 => 0x3F7DCF55#32
  | 96 => 0x3F441B7D#32
  | 97 => 0x3D32AA3E#32
  | 98 => 0xBF3504F3#32
  | 99 => 0xBF7FC1A0#32
  | 100 => 0xBF248DBB#32
  | 101 => 0x3E05A8A8#32
  | 102 => 0x3F51B3F3#32
  | 103 => 0x3F79EE89#32
  | 104 => 0x3F000000#32
  | 105 => 0xBE99F61C#32
  | 106 => 0xBF6803CA#32
  | 107 => 0xBF6C835E#32
  | 108 => 0xBEAF1D44#32
  | 109 => 0x3EEC6A50#32
  | 110 => 0x3F7746EA#32
  | 111 => 0x3F57E880#32
  | 112 => 0x3E31D0D4#32
  | 113 => 0xBF1BD7CA#32
  | 114 => 0xBF7F069E#32
  | 115 => 0xBF3CBE35#32
  | 116 => 0xA553C9CA#32
  | 117 => 0x3F3CBE35#32
  | 118 => 0x3F7F069E#32
  | 119 => 0x3F1BD7CA#32
  | 120 => 0xBE31D0D4#32
  | 121 => 0xBF57E880#32
  | 122 => 0xBF7746EA#32
  | 123 => 0xBEEC6A50#32
  | 124 => 0x3EAF1D44#32
  | 125 => 0x3F6C835E#32
  | 126 => 0x3F6803CA#32
  | 127 => 0x3E99F61C#32
  | _ => 0#32

noncomputable abbrev lit0t0_87 (i : Nat) : BitVec 32 := match i % 128 with
  | 0 => 0xBF000000#32
  | 1 => 0xBF79EE89#32
  | 2 => 0xBF51B3F3#32
  | 3 => 0xBE05A8A8#32
  | 4 => 0x3F248DBB#32
  | 5 => 0x3F7FC1A0#32
  | 6 => 0x3F3504F3#32
  | 7 => 0xBD32AA3E#32
  | 8 => 0xBF441B7D#32
  | 9 => 0xBF7DCF55#32
  | 10 => 0xBF12D5E8#32
  | 11 => 0x3E5DA259#32
  | 12 => 0x3F5DB3D7#32
  | 13 => 0x3F7426CB#32
  | 14 => 0x3ED8616C#32
  | 15 => 0xBEC3EF15#32
  | 16 => 0xBF708FB2#32
  | 17 => 0xBF631324#32
  | 18 => 0xBE8483EE#32
  | 19 => 0x3F098C78#32
  | 20 => 0x3F7C1C5C#32
  | 21 => 0x3F4B1934#32
  | 22 => 0x3DB27EB6#32
  | 23 => 0xBF2CF37B#32
  | 24 => 0xBF800000#32
  | 25 => 0xBF2CF37B#32
  | 26 => 0x3DB27EB6#32
  | 27 => 0x3F4B1934#32
  | 28 => 0x3F7C1C5C#32
  | 29 => 0x3F098C78#32
  | 30 => 0xBE8483EE#32
  | 31 => 0xBF631324#32
  | 32 => 0xBF708FB2#32
  | 33 => 0xBEC3EF15#32
  | 34 => 0x3ED8616C#32
  | 35 => 0x3F7426CB#32
  | 36 => 0x3F5DB3D7#32
  | 37 => 0x3E5DA259#32
  | 38 => 0xBF12D5E8#32
  | 39 => 0xBF7DCF55#32
  | 40 => 0xBF441B7D#32
  | 41 => 0xBD32AA3E#32
  | 42 => 0x3F3504F3#32
  | 43 => 0x3F7FC1A0#32
  | 44 => 0x3F248DBB#32
  | 45 => 0xBE05A8A8#32
  | 46 => 0xBF51B3F3#32
  | 47 => 0xBF79EE89#32
  | 48 => 0xBF000000#32
  | 49 => 0x3E99F61C#32
  | 50 => 0x3F6803CA#32
  | 51 => 0x3F6C835E#32
  | 52 => 0x3EAF1D44#32
  | 53 => 0xBEEC6A50#32
  | 54 => 0xBF7746EA#32
  | 55 => 0xBF57E880#32
  | 56 => 0xBE31D0D4#32
  | 57 => 0x3F1BD7CA#32
  | 58 => 0x3F7F069E#32
  | 59 => 0x3F3CBE35#32
  | 60 => 0x248D3132#32
  | 61 => 0xBF3CBE35#32
  | 62 => 0xBF7F069E#32
  | 63 => 0xBF1BD7CA#32
  | 64 => 0x3E31D0D4#32
  | 65 => 0x3F57E880#32
  | 66 => 0x3F7746EA#32
  | 67 => 0x3EEC6A50#32
  | 68 => 0xBEAF1D44#32
  | 69 => 0xBF6C835E#32
  | 70 => 0xBF6803CA#32
  | 71 => 0xBE99F61C#32
  | 72 => 0x3F000000#32
  | 73 => 0x3F79EE89#32
  | 74 => 0x3F51B3F3#32
  | 75 => 0x3E05A8A8#32
  | 76 => 0xBF248DBB#32
  | 77 => 0xBF7FC1A0#32
  | 78 => 0xBF3504F3#32
  | 79 => 0x3D32AA3E#32
  | 80 => 0x3F441B7D#32
  | 81 => 0x3F7DCF55#32
  | 82 => 0x3F12D5E8#32
  | 83 => 0xBE5DA259#32
  | 84 => 0xBF5DB3D7#32
  | 85 => 0xBF7426CB#32
  | 86 => 0xBED8616C#32
  | 87 => 0x3EC3EF15#32
  | 88 => 0x3F708FB2#32
  | 89 => 0x3F631324#32
  | 90 => 0x3E8483EE#32
  | 91 => 0xBF098C78#32
  | 92 => 0xBF7C1C5C#32
  | 93 => 0xBF4B1934#32
  | 94 => 0xBDB27EB6#32
  | 95 => 0x3F2CF37B#32
  | 96 => 0x3F800000#32
  | 97 => 0x3F28CAE3#32
  | 98 => 0xBE05A8A8#32
  | 99 => 0xBF54DB31#32
  | 100 => 0xBF7746EA#32
  | 101 => 0xBEE273AA#32
  | 102 => 0x3EC3EF15#32
  | 103 => 0x3F726A03#32
  | 104 => 0x3F5DB3D7#32
  | 105 => 0x3E47C5C2#32
  | 106 => 0xBF1BD7CA#32
  | 107 => 0xBF7F73AF#32
  | 108 => 0xBF3504F3#32
  | 109 => 0x3D85F213#32
  | 110 => 0x3F4B1934#32
  | 111 => 0x3F7B14BE#32
  | 112 => 0x3F000000#32
  | 113 => 0xBEA493B7#32
  | 114 => 0xBF6C835E#32
  | 115 => 0xBF659974#32
  | 116 => 0xBE8483EE#32
  | 117 => 0x3F0E39DA#32
  | 118 => 0x3F7DCF55#32
  | 119 => 0x3F407893#32
  | 120 => 0x248D3132#32
  | 121 => 0xBF407893#32
  | 122 => 0xBF7DCF55#32
  | 123 => 0xBF0E39DA#32
  | 124 => 0x3E8483EE#32
  | 125 => 0x3F659974#32
  | 126 => 0x3F6C835E#32
  | 127 => 0x3EA493B7#32
  | _ => 0#32

noncomputable abbrev lit0t0_88 (i : Nat) : BitVec 32 := match i % 128 with
  | 0 => 0xBF000000#32
  | 1 => 0xBF7B14BE#32
  | 2 => 0xBF4B1934#32
  | 3 => 0xBD85F213#32
  | 4 => 0x3F3504F3#32
  | 5 => 0x3F7F73AF#32
  | 6 => 0x3F1BD7CA#32
  | 7 => 0xBE47C5C2#32
  | 8 => 0xBF5DB3D7#32
  | 9 => 0xBF726A03#32
  | 10 => 0xBEC3EF15#32
  | 11 => 0x3EE273AA#32
  | 12 => 0x3F7746EA#32
  | 13 => 0x3F54DB31#32
  | 14 => 0x3E05A8A8#32
  | 15 => 0xBF28CAE3#32
  | 16 => 0xBF800000#32
  | 17 => 0xBF28CAE3#32
  | 18 => 0x3E05A8A8#32
  | 19 => 0x3F54DB31#32
  | 20 => 0x3F7746EA#32
  | 21 => 0x3EE273AA#32
  | 22 => 0xBEC3EF15#32
  | 23 => 0xBF726A03#32
  | 24 => 0xBF5DB3D7#32
  | 25 => 0xBE47C5C2#32
  | 26 => 0x3F1BD7CA#32
  | 27 => 0x3F7F73AF#32
  | 28 => 0x3F3504F3#32
  | 29 => 0xBD85F213#32
  | 30 => 0xBF4B1934#32
  | 31 => 0xBF7B14BE#32
  | 32 => 0xBF000000#32
  | 33 => 0x3EA493B7#32
  | 34 => 0x3F6C835E#32
  | 35 => 0x3F659974#32
  | 36 => 0x3E8483EE#32
  | 37 => 0xBF0E39DA#32
  | 38 => 0xBF7DCF55#32
  | 39 => 0xBF407893#32
  | 40 => 0xA553C9CA#32
  | 41 => 0x3F407893#32
  | 42 => 0x3F7DCF55#32
  | 43 => 0x3F0E39DA#32
  | 44 => 0xBE8483EE#32
  | 45 => 0xBF659974#32
  | 46 => 0xBF6C835E#32
  | 47 => 0xBEA493B7#32
  | 48 => 0x3F000000#32
  | 49 => 0x3F7B14BE#32
  | 50 => 0x3F4B1934#32
  | 51 => 0x3D85F213#32
  | 52 => 0xBF3504F3#32
  | 53 => 0xBF7F73AF#32
  | 54 => 0xBF1BD7CA#32
  | 55 => 0x3E47C5C2#32
  | 56 => 0x3F5DB3D7#32
  | 57 => 0x3F726A03#32
  | 58 => 0x3EC3EF15#32
  | 59 => 0xBEE273AA#32
  | 60 => 0xBF7746EA#32
  | 61 => 0xBF54DB31#32
  | 62 => 0xBE05A8A8#32
  | 63 => 0x3F28CAE3#32
  | 64 => 0x3F800000#32
  | 65 => 0x3F28CAE3#32
  | 66 => 0xBE05A8A8#32
  | 67 => 0xBF54DB31#32
  | 68 => 0xBF7746EA#32
  | 69 => 0xBEE273AA#32
  | 70 => 0x3EC3EF15#32
  | 71 => 0x3F726A03#32
  | 72 => 0x3F5DB3D7#32
  | 73 => 0x3E47C5C2#32
  | 74 => 0xBF1BD7CA#32
  | 75 => 0xBF7F73AF#32
  | 76 => 0xBF3504F3#32
  | 77 => 0x3D85F213#32
  | 78 => 0x3F4B1934#32
  | 79 => 0x3F7B14BE#32
  | 80 => 0x3F000000#32
  | 81 => 0xBEA493B7#32
  | 82 => 0xBF6C835E#32
  | 83 => 0xBF659974#32
  | 84 => 0xBE8483EE#32
  | 85 => 0x3F0E39DA#32
  | 86 => 0x3F7DCF55#32
  | 87 => 0x3F407893#32
  | 88 => 0x248D3132#32
  | 89 => 0xBF407893#32
  | 90 => 0xBF7DCF55#32
  | 91 => 0xBF0E39DA#32
  | 92 => 0x3E8483EE#32
  | 93 => 0x3F659974#32
  | 94 => 0x3F6C835E#32
  | 95 => 0x3EA493B7#32
  | 96 => 0xBF000000#32
  | 97 => 0xBF7B14BE#32
  | 98 => 0xBF4B1934#32
  | 99 => 0xBD85F213#32
  | 100 => 0x3F3504F3#32
  | 101 => 0x3F7F73AF#32
  | 102 => 0x3F1BD7CA#32
  | 103 => 0xBE47C5C2#32
  | 104 => 0xBF5DB3D7#32
  | 105 => 0xBF726A03#32
  | 106 => 0xBEC3EF15#32
  | 107 => 0x3EE273AA#32
  | 108 => 0x3F7746EA#32
  | 109 => 0x3F54DB31#32
  | 110 => 0x3E05A8A8#32
  | 111 => 0xBF28CAE3#32
  | 112 => 0xBF800000#32
  | 113 => 0xBF28CAE3#32
  | 114 => 0x3E05A8A8#32
  | 115 => 0x3F54DB31#32
  | 116 => 0x3F7746EA#32
  | 117 => 0x3EE273AA#32
  | 118 => 0xBEC3EF15#32
  | 119 => 0xBF726A03#32
  | 120 => 0xBF5DB3D7#32
  | 121 => 0xBE47C5C2#32
  | 122 => 0x3F1BD7CA#32
  | 123 => 0x3F7F73AF#32
  | 124 => 0x3F3504F3#32
  | 125 => 0xBD85F213#32
  | 126 => 0xBF4B1934#32
  | 127 => 0xBF7B14BE#32
  | _ => 0#32

noncomputable abbrev lit0t0_89 (i : Nat) : BitVec 32 := match i % 128 with
  | 0 => 0xBF000000#32
  | 1 => 0x3EA493B7#32
  | 2 => 0x3F6C835E#32
  | 3 => 0x3F659974#32
  | 4 => 0x3E8483EE#32
  | 5 => 0xBF0E39DA#32
  | 6 => 0xBF7DCF55#32
  | 7 => 0xBF407893#32
  | 8 => 0xA553C9CA#32
  | 9 => 0x3F407893#32
  | 10 => 0x3F7DCF55#32
  | 11 => 0x3F0E39DA#32
  | 12 => 0xBE8483EE#32
  | 13 => 0xBF659974#32
  | 14 => 0xBF6C835E#32
  | 15 => 0xBEA493B7#32
  | 16 => 0x3F000000#32
  | 17 => 0x3F7B14BE#32
  | 18 => 0x3F4B1934#32
  | 19 => 0x3D85F213#32
  | 20 => 0xBF3504F3#32
  | 21 => 0xBF7F73AF#32
  | 22 => 0xBF1BD7CA#32
  | 23 => 0x3E47C5C2#32
  | 24 => 0x3F5DB3D7#32
  | 25 => 0x3F726A03#32
  | 26 => 0x3EC3EF15#32
  | 27 => 0xBEE273AA#32
  | 28 => 0xBF7746EA#32
  | 29 => 0xBF54DB31#32
  | 30 => 0xBE05A8A8#32
  | 31 => 0x3F28CAE3#32
  | 32 => 0x3F800000#32
  | 33 => 0x3F28CAE3#32
  | 34 => 0xBE05A8A8#32
  | 35 => 0xBF54DB31#32
  | 36 => 0xBF7746EA#32
  | 37 => 0xBEE273AA#32
  | 38 => 0x3EC3EF15#32
  | 39 => 0x3F726A03#32
  | 40 => 0x3F5DB3D7#32
  | 41 => 0x3E47C5C2#32
  | 42 => 0xBF1BD7CA#32
  | 43 => 0xBF7F73AF#32
  | 44 => 0xBF3504F3#32
  | 45 => 0x3D85F213#32
  | 46 => 0x3F4B1934#32
  | 47 => 0x3F7B14BE#32
  | 48 => 0x3F000000#32
  | 49 => 0xBEA493B7#32
  | 50 => 0xBF6C835E#32
  | 51 => 0xBF659974#32
  | 52 => 0xBE8483EE#32
  | 53 => 0x3F0E39DA#32
  | 54 => 0x3F7DCF55#32
  | 55 => 0x3F407893#32
  | 56 => 0x248D3132#32
  | 57 => 0xBF407893#32
  | 58 => 0xBF7DCF55#32
  | 59 => 0xBF0E39DA#32
  | 60 => 0x3E8483EE#32
  | 61 => 0x3F659974#32
  | 62 => 0x3F6C835E#32
  | 63 => 0x3EA493B7#32
  | 64 => 0xBF000000#32
  | 65 => 0xBF7B14BE#32
  | 66 => 0xBF4B1934#32
  | 67 => 0xBD85F213#32
  | 68 => 0x3F3504F3#32
  | 69 => 0x3F7F73AF#32
  | 70 => 0x3F1BD7CA#32
  | 71 => 0xBE47C5C2#32
  | 72 => 0xBF5DB3D7#32
  | 73 => 0xBF726A03#32
  | 74 => 0xBEC3EF15#32
  | 75 => 0x3EE273AA#32
  | 76 => 0x3F7746EA#32
  | 77 => 0x3F54DB31#32
  | 78 => 0x3E05A8A8#32
  | 79 => 0xBF28CAE3#32
  | 80 => 0xBF800000#32
  | 81 => 0xBF28CAE3#32
  | 82 => 0x3E05A8A8#32
  | 83 => 0x3F54DB31#32
  | 84 => 0x3F7746EA#32
  | 85 => 0x3EE273AA#32
  | 86 => 0xBEC3EF15#32
  | 87 => 0xBF726A03#32
  | 88 => 0xBF5DB3D7#32
  | 89 => 0xBE47C5C2#32
  | 90 => 0x3F1BD7CA#32
  | 91 => 0x3F7F73AF#32
  | 92 => 0x3F3504F3#32
  | 93 => 0xBD85F213#32
  | 94 => 0xBF4B1934#32
  | 95 => 0xBF7B14BE#32
  | 96 => 0xBF000000#32
  | 97 => 0x3EA493B7#32
  | 98 => 0x3F6C835E#32
  | 99 => 0x3F659974#32
  | 100 => 0x3E8483EE#32
  | 101 => 0xBF0E39DA#32
  | 102 => 0xBF7DCF55#32
  | 103 => 0xBF407893#32
  | 104 => 0xA553C9CA#32
  | 105 => 0x3F407893#32
  | 106 => 0x3F7DCF55#32
  | 107 => 0x3F0E39DA#32
  | 108 => 0xBE8483EE#32
  | 109 => 0xBF659974#32
  | 110 => 0xBF6C835E#32
  | 111 => 0xBEA493B7#32
  | 112 => 0x3F000000#32
  | 113 => 0x3F7B14BE#32
  | 114 => 0x3F4B1934#32
  | 115 => 0x3D85F213#32
  | 116 => 0xBF3504F3#32
  | 117 => 0xBF7F73AF#32
  | 118 => 0xBF1BD7CA#32
  | 119 => 0x3E47C5C2#32
  | 120 => 0x3F5DB3D7#32
  | 121 => 0x3F726A03#32
  | 122 => 0x3EC3EF15#32
  | 123 => 0xBEE273AA#32
  | 124 => 0xBF7746EA#32
  | 125 => 0xBF54DB31#32
  | 126 => 0xBE05A8A8#32
  | 127 => 0x3F28CAE3#32
  | _ => 0#32

noncomputable abbrev lit0t0_90 (i : Nat) : BitVec 32 := match i % 128 with
  | 0 => 0x3F800000#32
  | 1 => 0x3F248DBB#32
  | 2 => 0xBE31D0D4#32
  | 3 => 0xBF5DB3D7#32
  | 4 => 0xBF708FB2#32
  | 5 => 0xBEAF1D44#32
  | 6 => 0x3F000000#32
  | 7 => 0x3F7C1C5C#32
  | 8 => 0x3F441B7D#32
  | 9 => 0x248D3132#32
  | 10 => 0xBF441B7D#32
  | 11 => 0xBF7C1C5C#32
  | 12 => 0xBF000000#32
  | 13 => 0x3EAF1D44#32
  | 14 => 0x3F708FB2#32
  | 15 => 0x3F5DB3D7#32
  | 16 => 0x3E31D0D4#32
  | 17 => 0xBF248DBB#32
  | 18 => 0xBF800000#32
  | 19 => 0xBF248DBB#32
  | 20 => 0x3E31D0D4#32
  | 21 => 0x3F5DB3D7#32
  | 22 => 0x3F708FB2#32
  | 23 => 0x3EAF1D44#32
  | 24 => 0xBF000000#32
  | 25 => 0xBF7C1C5C#32
  | 26 => 0xBF441B7D#32
  | 27 => 0xA553C9CA#32
  | 28 => 0x3F441B7D#32
  | 29 => 0x3F7C1C5C#32
  | 30 => 0x3F000000#32
  | 31 => 0xBEAF1D44#32
  | 32 => 0xBF708FB2#32
  | 33 => 0xBF5DB3D7#32
  | 34 => 0xBE31D0D4#32
  | 35 => 0x3F248DBB#32
  | 36 => 0x3F800000#32
  | 37 => 0x3F248DBB#32
  | 38 => 0xBE31D0D4#32
  | 39 => 0xBF5DB3D7#32
  | 40 => 0xBF708FB2#32
  | 41 => 0xBEAF1D44#32
  | 42 => 0x3F000000#32
  | 43 => 0x3F7C1C5C#32
  | 44 => 0x3F441B7D#32
  | 45 => 0x248D3132#32
  | 46 => 0xBF441B7D#32
  | 47 => 0xBF7C1C5C#32
  | 48 => 0xBF000000#32
  | 49 => 0x3EAF1D44#32
  | 50 => 0x3F708FB2#32
  | 51 => 0x3F5DB3D7#32
  | 52 => 0x3E31D0D4#32
  | 53 => 0xBF248DBB#32
  | 54 => 0xBF800000#32
  | 55 => 0xBF248DBB#32
  | 56 => 0x3E31D0D4#32
  | 57 => 0x3F5DB3D7#32
  | 58 => 0x3F708FB2#32
  | 59 => 0x3EAF1D44#32
  | 60 => 0xBF000000#32
  | 61 => 0xBF7C1C5C#32
  | 62 => 0xBF441B7D#32
  | 63 => 0xA553C9CA#32
  | 64 => 0x3F441B7D#32
  | 65 => 0x3F7C1C5C#32
  | 66 => 0x3F000000#32
  | 67 => 0xBEAF1D44#32
  | 68 => 0xBF708FB2#32
  | 69 => 0xBF5DB3D7#32
  | 70 => 0xBE31D0D4#32
  | 71 => 0x3F248DBB#32
  | 72 => 0x3F800000#32
  | 73 => 0x3F248DBB#32
  | 74 => 0xBE31D0D4#32
  | 75 => 0xBF5DB3D7#32
  | 76 => 0xBF708FB2#32
  | 77 => 0xBEAF1D44#32
  | 78 => 0x3F000000#32
  | 79 => 0x3F7C1C5C#32
  | 80 => 0x3F441B7D#32
  | 81 => 0x248D3132#32
  | 82 => 0xBF441B7D#32
  | 83 => 0xBF7C1C5C#32
  | 84 => 0xBF000000#32
  | 85 => 0x3EAF1D44#32
  | 86 => 0x3F708FB2#32
  | 87 => 0x3F5DB3D7#32
  | 88 => 0x3E31D0D4#32
  | 89 => 0xBF248DBB#32
  | 90 => 0xBF800000#32
  | 91 => 0xBF248DBB#32
  | 92 => 0x3E31D0D4#32
  | 93 => 0x3F5DB3D7#32
  | 94 => 0x3F708FB2#32
  | 95 => 0x3EAF1D44#32
  | 96 => 0xBF000000#32
  | 97 => 0xBF7C1C5C#32
  | 98 => 0xBF441B7D#32
  | 99 => 0xA553C9CA#32
  | 100 => 0x3F441B7D#32
  | 101 => 0x3F7C1C5C#32
  | 102 => 0x3F000000#32
  | 103 => 0xBEAF1D44#32
  | 104 => 0xBF708FB2#32
  | 105 => 0xBF5DB3D7#32
  | 106 => 0xBE31D0D4#32
  | 107 => 0x3F248DBB#32
  | 108 => 0x3F800000#32
  | 109 => 0x3F248DBB#32
  | 110 => 0xBE31D0D4#32
  | 111 => 0xBF5DB3D7#32
  | 112 => 0xBF708FB2#32
  | 113 => 0xBEAF1D44#32
  | 114 => 0x3F000000#32
  | 115 => 0x3F7C1C5C#32
  | 116 => 0x3F441B7D#32
  | 117 => 0x248D3132#32
  | 118 => 0xBF441B7D#32
  | 119 => 0xBF7C1C5C#32
  | 120 => 0xBF000000#32
  | 121 => 0x3EAF1D44#32
  | 122 => 0x3F708FB2#32
  | 123 => 0x3F5DB3D7#32
  | 124 => 0x3E31D0D4#32
  | 125 => 0xBF248DBB#32
  | 126 => 0xBF800000#32
  | 127 => 0xBF248DBB#32
  | _ => 0#32

noncomputable abbrev lit0t0_91 (i : Nat) : BitVec 32 := match i % 128 with
  | 0 => 0x3E31D0D4#32
  | 1 => 0x3F5DB3D7#32
  | 2 => 0x3F708FB2#32
  | 3 => 0x3EAF1D44#32
  | 4 => 0xBF000000#32
  | 5 => 0xBF7C1C5C#32
  | 6 => 0xBF441B7D#32
  | 7 => 0xA553C9CA#32
  | 8 => 0x3F441B7D#32
  | 9 => 0x3F7C1C5C#32
  | 10 => 0x3F000000#32
  | 11 => 0xBEAF1D44#32
  | 12 => 0xBF708FB2#32
  | 13 => 0xBF5DB3D7#32
  | 14 => 0xBE31D0D4#32
  | 15 => 0x3F248DBB#32
  | 16 => 0x3F800000#32
  | 17 => 0x3F248DBB#32
  | 18 => 0xBE31D0D4#32
  | 19 => 0xBF5DB3D7#32
  | 20 => 0xBF708FB2#32
  | 21 => 0xBEAF1D44#32
  | 22 => 0x3F000000#32
  | 23 => 0x3F7C1C5C#32
  | 24 => 0x3F441B7D#32
  | 25 => 0x248D3132#32
  | 26 => 0xBF441B7D#32
  | 27 => 0xBF7C1C5C#32
  | 28 => 0xBF000000#32
  | 29 => 0x3EAF1D44#32
  | 30 => 0x3F708FB2#32
  | 31 => 0x3F5DB3D7#32
  | 32 => 0x3E31D0D4#32
  | 33 => 0xBF248DBB#32
  | 34 => 0xBF800000#32
  | 35 => 0xBF248DBB#32
  | 36 => 0x3E31D0D4#32
  | 37 => 0x3F5DB3D7#32
  | 38 => 0x3F708FB2#32
  | 39 => 0x3EAF1D44#32
  | 40 => 0xBF000000#32
  | 41 => 0xBF7C1C5C#32
  | 42 => 0xBF441B7D#32
  | 43 => 0xA553C9CA#32
  | 44 => 0x3F441B7D#32
  | 45 => 0x3F7C1C5C#32
  | 46 => 0x3F000000#32
  | 47 => 0xBEAF1D44#32
  | 48 => 0xBF708FB2#32
  | 49 => 0xBF5DB3D7#32
  | 50 => 0xBE31D0D4#32
  | 51 => 0x3F248DBB#32
  | 52 => 0x3F800000#32
  | 53 => 0x3F248DBB#32
  | 54 => 0xBE31D0D4#32
  | 55 => 0xBF5DB3D7#32
  | 56 => 0xBF708FB2#32
  | 57 => 0xBEAF1D44#32
  | 58 => 0x3F000000#32
  | 59 => 0x3F7C1C5C#32
  | 60 => 0x3F441B7D#32
  | 61 => 0x248D3132#32
  | 62 => 0xBF441B7D#32
  | 63 => 0xBF7C1C5C#32
  | 64 => 0xBF000000#32
  | 65 => 0x3EAF1D44#32
  | 66 => 0x3F708FB2#32
  | 67 => 0x3F5DB3D7#32
  | 68 => 0x3E31D0D4#32
  | 69 => 0xBF248DBB#32
  | 70 => 0xBF800000#32
  | 71 => 0xBF248DBB#32
  | 72 => 0x3E31D0D4#32
  | 73 => 0x3F5DB3D7#32
  | 74 => 0x3F708FB2#32
  | 75 => 0x3EAF1D44#32
  | 76 => 0xBF000000#32
  | 77 => 0xBF7C1C5C#32
  | 78 => 0xBF441B7D#32
  | 79 => 0xA553C9CA#32
  | 80 => 0x3F441B7D#32
  | 81 => 0x3F7C1C5C#32
  | 82 => 0x3F000000#32
  | 83 => 0xBEAF1D44#32
  | 84 => 0xBF708FB2#32
  | 85 => 0xBF5DB3D7#32
  | 86 => 0xBE31D0D4#32
  | 87 => 0x3F248DBB#32
  | 88 => 0x3F800000#32
  | 89 => 0x3F248DBB#32
  | 90 => 0xBE31D0D4#32
  | 91 => 0xBF5DB3D7#32
  | 92 => 0xBF708FB2#32
  | 93 => 0xBEAF1D44#32
  | 94 => 0x3F000000#32
  | 95 => 0x3F7C1C5C#32
  | 96 => 0x3F441B7D#32
  | 97 => 0x248D3132#32
  | 98 => 0xBF441B7D#32
  | 99 => 0xBF7C1C5C#32
  | 100 => 0xBF000000#32
  | 101 => 0x3EAF1D44#32
  | 102 => 0x3F708FB2#32
  | 103 => 0x3F5DB3D7#32
  | 104 => 0x3E31D0D4#32
  | 105 => 0xBF248DBB#32
  | 106 => 0xBF800000#32
  | 107 => 0xBF248DBB#32
  | 108 => 0x3E31D0D4#32
  | 109 => 0x3F5DB3D7#32
  | 110 => 0x3F708FB2#32
  | 111 => 0x3EAF1D44#32
  | 112 => 0xBF000000#32
  | 113 => 0xBF7C1C5C#32
  | 114 => 0xBF441B7D#32
  | 115 => 0xA553C9CA#32
  | 116 => 0x3F441B7D#32
  | 117 => 0x3F7C1C5C#32
  | 118 => 0x3F000000#32
  | 119 => 0xBEAF1D44#32
  | 120 => 0xBF708FB2#32
  | 121 => 0xBF5DB3D7#32
  | 122 => 0xBE31D0D4#32
  | 123 => 0x3F248DBB#32
  | 124 => 0x3F800000#32
  | 125 => 0x3F248DBB#32
  | 126 => 0xBE31D0D4#32
  | 127 => 0xBF5DB3D7#32
  | _ => 0#32

noncomputable abbrev lit0t0_92 (i : Nat) : BitVec 32 := match i % 128 with
  | 0 => 0xBF708FB2#32
  | 1 => 0xBEAF1D44#32
  | 2 => 0x3F000000#32
  | 3 => 0x3F7C1C5C#32
  | 4 => 0x3F441B7D#32
  | 5 => 0x248D3132#32
  | 6 => 0xBF441B7D#32
  | 7 => 0xBF7C1C5C#32
  | 8 => 0xBF000000#32
  | 9 => 0x3EAF1D44#32
  | 10 => 0x3F708FB2#32
  | 11 => 0x3F5DB3D7#32
  | 12 => 0x3E31D0D4#32
  | 13 => 0xBF248DBB#32
  | 14 => 0xBF800000#32
  | 15 => 0xBF248DBB#32
  | 16 => 0x3E31D0D4#32
  | 17 => 0x3F5DB3D7#32
  | 18 => 0x3F708FB2#32
  | 19 => 0x3EAF1D44#32
  | 20 => 0xBF000000#32
  | 21 => 0xBF7C1C5C#32
  | 22 => 0xBF441B7D#32
  | 23 => 0xA553C9CA#32
  | 24 => 0x3F441B7D#32
  | 25 => 0x3F7C1C5C#32
  | 26 => 0x3F000000#32
  | 27 => 0xBEAF1D44#32
  | 28 => 0xBF708FB2#32
  | 29 => 0xBF5DB3D7#32
  | 30 => 0xBE31D0D4#32
  | 31 => 0x3F248DBB#32
  | 32 => 0x3F800000#32
  | 33 => 0x3F203C85#32
  | 34 => 0xBE5DA259#32
  | 35 => 0xBF659974#32
  | 36 => 0xBF6803CA#32
  | 37 => 0xBE7363EE#32
  | 38 => 0x3F1BD7CA#32
  | 39 => 0x3F7FF067#32
  | 40 => 0x3F248DBB#32
  | 41 => 0xBE47C5C2#32
  | 42 => 0xBF631324#32
  | 43 => 0xBF6A51DA#32
  | 44 => 0xBE8483EE#32
  | 45 => 0x3F176012#32
  | 46 => 0x3F7FC1A0#32
  | 47 => 0x3F28CAE3#32
  | 48 => 0xBE31D0D4#32
  | 49 => 0xBF60712A#32
  | 50 => 0xBF6C835E#32
  | 51 => 0xBE8F45C0#32
  | 52 => 0x3F12D5E8#32
  | 53 => 0x3F7F73AF#32
  | 54 => 0x3F2CF37B#32
  | 55 => 0xBE1BC63C#32
  | 56 => 0xBF5DB3D7#32
  | 57 => 0xBF6E9811#32
  | 58 => 0xBE99F61C#32
  | 59 => 0x3F0E39DA#32
  | 60 => 0x3F7F069E#32
  | 61 => 0x3F310700#32
  | 62 => 0xBE05A8A8#32
  | 63 => 0xBF5ADB81#32
  | 64 => 0xBF708FB2#32
  | 65 => 0xBEA493B7#32
  | 66 => 0x3F098C78#32
  | 67 => 0x3F7E7A7A#32
  | 68 => 0x3F3504F3#32
  | 69 => 0xBDDEF599#32
  | 70 => 0xBF57E880#32
  | 71 => 0xBF726A03#32
  | 72 => 0xBEAF1D44#32
  | 73 => 0x3F04CE53#32
  | 74 => 0x3F7DCF55#32
  | 75 => 0x3F38ECD8#32
  | 76 => 0xBDB27EB6#32
  | 77 => 0xBF54DB31#32
  | 78 => 0xBF7426CB#32
  | 79 => 0xBEB9917B#32
  | 80 => 0x3F000000#32
  | 81 => 0x3F7D0543#32
  | 82 => 0x3F3CBE35#32
  | 83 => 0xBD85F213#32
  | 84 => 0xBF51B3F3#32
  | 85 => 0xBF75C5D4#32
  | 86 => 0xBEC3EF15#32
  | 87 => 0x3EF64429#32
  | 88 => 0x3F7C1C5C#32
  | 89 => 0x3F407893#32
  | 90 => 0xBD32AA3E#32
  | 91 => 0xBF4E7327#32
  | 92 => 0xBF7746EA#32
  | 93 => 0xBECE34D0#32
  | 94 => 0x3EEC6A50#32
  | 95 => 0x3F7B14BE#32
  | 96 => 0x3F441B7D#32
  | 97 => 0xBCB2B521#32
  | 98 => 0xBF4B1934#32
  | 99 => 0xBF78A9E0#32
  | 100 => 0xBED8616C#32
  | 101 => 0x3EE273AA#32
  | 102 => 0x3F79EE89#32
  | 103 => 0x3F47A682#32
  | 104 => 0x248D3132#32
  | 105 => 0xBF47A682#32
  | 106 => 0xBF79EE89#32
  | 107 => 0xBEE273AA#32
  | 108 => 0x3ED8616C#32
  | 109 => 0x3F78A9E0#32
  | 110 => 0x3F4B1934#32
  | 111 => 0x3CB2B521#32
  | 112 => 0xBF441B7D#32
  | 113 => 0xBF7B14BE#32
  | 114 => 0xBEEC6A50#32
  | 115 => 0x3ECE34D0#32
  | 116 => 0x3F7746EA#32
  | 117 => 0x3F4E7327#32
  | 118 => 0x3D32AA3E#32
  | 119 => 0xBF407893#32
  | 120 => 0xBF7C1C5C#32
  | 121 => 0xBEF64429#32
  | 122 => 0x3EC3EF15#32
  | 123 => 0x3F75C5D4#32
  | 124 => 0x3F51B3F3#32
  | 125 => 0x3D85F213#32
  | 126 => 0xBF3CBE35#32
  | 127 => 0xBF7D0543#32
  | _ => 0#32

noncomputable abbrev lit0t0_93 (i : Nat) : BitVec 32 := match i % 128 with
  | 0 => 0xBF000000#32
  | 1 => 0x3EB9917B#32
  | 2 => 0x3F7426CB#32
  | 3 => 0x3F54DB31#32
  | 4 => 0x3DB27EB6#32
  | 5 => 0xBF38ECD8#32
  | 6 => 0xBF7DCF55#32
  | 7 => 0xBF04CE53#32
  | 8 => 0x3EAF1D44#32
  | 9 => 0x3F726A03#32
  | 10 => 0x3F57E880#32
  | 11 => 0x3DDEF599#32
  | 12 => 0xBF3504F3#32
  | 13 => 0xBF7E7A7A#32
  | 14 => 0xBF098C78#32
  | 15 => 0x3EA493B7#32
  | 16 => 0x3F708FB2#32
  | 17 => 0x3F5ADB81#32
  | 18 => 0x3E05A8A8#32
  | 19 => 0xBF310700#32
  | 20 => 0xBF7F069E#32
  | 21 => 0xBF0E39DA#32
  | 22 => 0x3E99F61C#32
  | 23 => 0x3F6E9811#32
  | 24 => 0x3F5DB3D7#32
  | 25 => 0x3E1BC63C#32
  | 26 => 0xBF2CF37B#32
  | 27 => 0xBF7F73AF#32
  | 28 => 0xBF12D5E8#32
  | 29 => 0x3E8F45C0#32
  | 30 => 0x3F6C835E#32
  | 31 => 0x3F60712A#32
  | 32 => 0x3E31D0D4#32
  | 33 => 0xBF28CAE3#32
  | 34 => 0xBF7FC1A0#32
  | 35 => 0xBF176012#32
  | 36 => 0x3E8483EE#32
  | 37 => 0x3F6A51DA#32
  | 38 => 0x3F631324#32
  | 39 => 0x3E47C5C2#32
  | 40 => 0xBF248DBB#32
  | 41 => 0xBF7FF067#32
  | 42 => 0xBF1BD7CA#32
  | 43 => 0x3E7363EE#32
  | 44 => 0x3F6803CA#32
  | 45 => 0x3F659974#32
  | 46 => 0x3E5DA259#32
  | 47 => 0xBF203C85#32
  | 48 => 0xBF800000#32
  | 49 => 0xBF203C85#32
  | 50 => 0x3E5DA259#32
  | 51 => 0x3F659974#32
  | 52 => 0x3F6803CA#32
  | 53 => 0x3E7363EE#32
  | 54 => 0xBF1BD7CA#32
  | 55 => 0xBF7FF067#32
  | 56 => 0xBF248DBB#32
  | 57 => 0x3E47C5C2#32
  | 58 => 0x3F631324#32
  | 59 => 0x3F6A51DA#32
  | 60 => 0x3E8483EE#32
  | 61 => 0xBF176012#32
  | 62 => 0xBF7FC1A0#32
  | 63 => 0xBF28CAE3#32
  | 64 => 0x3E31D0D4#32
  | 65 => 0x3F60712A#32
  | 66 => 0x3F6C835E#32
  | 67 => 0x3E8F45C0#32
  | 68 => 0xBF12D5E8#32
  | 69 => 0xBF7F73AF#32
  | 70 => 0xBF2CF37B#32
  | 71 => 0x3E1BC63C#32
  | 72 => 0x3F5DB3D7#32
  | 73 => 0x3F6E9811#32
  | 74 => 0x3E99F61C#32
  | 75 => 0xBF0E39DA#32
  | 76 => 0xBF7F069E#32
  | 77 => 0xBF310700#32
  | 78 => 0x3E05A8A8#32
  | 79 => 0x3F5ADB81#32
  | 80 => 0x3F708FB2#32
  | 81 => 0x3EA493B7#32
  | 82 => 0xBF098C78#32
  | 83 => 0xBF7E7A7A#32
  | 84 => 0xBF3504F3#32
  | 85 => 0x3DDEF599#32
  | 86 => 0x3F57E880#32
  | 87 => 0x3F726A03#32
  | 88 => 0x3EAF1D44#32
  | 89 => 0xBF04CE53#32
  | 90 => 0xBF7DCF55#32
  | 91 => 0xBF38ECD8#32
  | 92 => 0x3DB27EB6#32
  | 93 => 0x3F54DB31#32
  | 94 => 0x3F7426CB#32
  | 95 => 0x3EB9917B#32
  | 96 => 0xBF000000#32
  | 97 => 0xBF7D0543#32
  | 98 => 0xBF3CBE35#32
  | 99 => 0x3D85F213#32
  | 100 => 0x3F51B3F3#32
  | 101 => 0x3F75C5D4#32
  | 102 => 0x3EC3EF15#32
  | 103 => 0xBEF64429#32
  | 104 => 0xBF7C1C5C#32
  | 105 => 0xBF407893#32
  | 106 => 0x3D32AA3E#32
  | 107 => 0x3F4E7327#32
  | 108 => 0x3F7746EA#32
  | 109 => 0x3ECE34D0#32
  | 110 => 0xBEEC6A50#32
  | 111 => 0xBF7B14BE#32
  | 112 => 0xBF441B7D#32
  | 113 => 0x3CB2B521#32
  | 114 => 0x3F4B1934#32
  | 115 => 0x3F78A9E0#32
  | 116 => 0x3ED8616C#32
  | 117 => 0xBEE273AA#32
  | 118 => 0xBF79EE89#32
  | 119 => 0xBF47A682#32
  | 120 => 0xA553C9CA#32
  | 121 => 0x3F47A682#32
  | 122 => 0x3F79EE89#32
  | 123 => 0x3EE273AA#32
  | 124 => 0xBED8616C#32
  | 125 => 0xBF78A9E0#32
  | 126 => 0xBF4B1934#32
  | 127 => 0xBCB2B521#32
  | _ => 0#32

noncomputable abbrev lit0t0_94 (i : Nat) : BitVec 32 := match i % 128 with
  | 0 => 0x3F441B7D#32
  | 1 => 0x3F7B14BE#32
  | 2 => 0x3EEC6A50#32
  | 3 => 0xBECE34D0#32
  | 4 => 0xBF7746EA#32
  | 5 => 0xBF4E7327#32
  | 6 => 0xBD32AA3E#32
  | 7 => 0x3F407893#32
  | 8 => 0x3F7C1C5C#32
  | 9 => 0x3EF64429#32
  | 10 => 0xBEC3EF15#32
  | 11 => 0xBF75C5D4#32
  | 12 => 0xBF51B3F3#32
  | 13 => 0xBD85F213#32
  | 14 => 0x3F3CBE35#32
  | 15 => 0x3F7D0543#32
  | 16 => 0x3F000000#32
  | 17 => 0xBEB9917B#32
  | 18 => 0xBF7426CB#32
  | 19 => 0xBF54DB31#32
  | 20 => 0xBDB27EB6#32
  | 21 => 0x3F38ECD8#32
  | 22 => 0x3F7DCF55#32
  | 23 => 0x3F04CE53#32
  | 24 => 0xBEAF1D44#32
  | 25 => 0xBF726A03#32
  | 26 => 0xBF57E880#32
  | 27 => 0xBDDEF599#32
  | 28 => 0x3F3504F3#32
  | 29 => 0x3F7E7A7A#32
  | 30 => 0x3F098C78#32
  | 31 => 0xBEA493B7#32
  | 32 => 0xBF708FB2#32
  | 33 => 0xBF5ADB81#32
  | 34 => 0xBE05A8A8#32
  | 35 => 0x3F310700#32
  | 36 => 0x3F7F069E#32
  | 37 => 0x3F0E39DA#32
  | 38 => 0xBE99F61C#32
  | 39 => 0xBF6E9811#32
  | 40 => 0xBF5DB3D7#32
  | 41 => 0xBE1BC63C#32
  | 42 => 0x3F2CF37B#32
  | 43 => 0x3F7F73AF#32
  | 44 => 0x3F12D5E8#32
  | 45 => 0xBE8F45C0#32
  | 46 => 0xBF6C835E#32
  | 47 => 0xBF60712A#32
  | 48 => 0xBE31D0D4#32
  | 49 => 0x3F28CAE3#32
  | 50 => 0x3F7FC1A0#32
  | 51 => 0x3F176012#32
  | 52 => 0xBE8483EE#32
  | 53 => 0xBF6A51DA#32
  | 54 => 0xBF631324#32
  | 55 => 0xBE47C5C2#32
  | 56 => 0x3F248DBB#32
  | 57 => 0x3F7FF067#32
  | 58 => 0x3F1BD7CA#32
  | 59 => 0xBE7363EE#32
  | 60 => 0xBF6803CA#32
  | 61 => 0xBF659974#32
  | 62 => 0xBE5DA259#32
  | 63 => 0x3F203C85#32
  | 64 => 0x3F800000#32
  | 65 => 0x3F1BD7CA#32
  | 66 => 0xBE8483EE#32
  | 67 => 0xBF6C835E#32
  | 68 => 0xBF5DB3D7#32
  | 69 => 0xBE05A8A8#32
  | 70 => 0x3F3504F3#32
  | 71 => 0x3F7DCF55#32
  | 72 => 0x3F000000#32
  | 73 => 0xBEC3EF15#32
  | 74 => 0xBF7746EA#32
  | 75 => 0xBF4B1934#32
  | 76 => 0xA553C9CA#32
  | 77 => 0x3F4B1934#32
  | 78 => 0x3F7746EA#32
  | 79 => 0x3EC3EF15#32
  | 80 => 0xBF000000#32
  | 81 => 0xBF7DCF55#32
  | 82 => 0xBF3504F3#32
  | 83 => 0x3E05A8A8#32
  | 84 => 0x3F5DB3D7#32
  | 85 => 0x3F6C835E#32
  | 86 => 0x3E8483EE#32
  | 87 => 0xBF1BD7CA#32
  | 88 => 0xBF800000#32
  | 89 => 0xBF1BD7CA#32
  | 90 => 0x3E8483EE#32
  | 91 => 0x3F6C835E#32
  | 92 => 0x3F5DB3D7#32
  | 93 => 0x3E05A8A8#32
  | 94 => 0xBF3504F3#32
  | 95 => 0xBF7DCF55#32
  | 96 => 0xBF000000#32
  | 97 => 0x3EC3EF15#32
  | 98 => 0x3F7746EA#32
  | 99 => 0x3F4B1934#32
  | 100 => 0x248D3132#32
  | 101 => 0xBF4B1934#32
  | 102 => 0xBF7746EA#32
  | 103 => 0xBEC3EF15#32
  | 104 => 0x3F000000#32
  | 105 => 0x3F7DCF55#32
  | 106 => 0x3F3504F3#32
  | 107 => 0xBE05A8A8#32
  | 108 => 0xBF5DB3D7#32
  | 109 => 0xBF6C835E#32
  | 110 => 0xBE8483EE#32
  | 111 => 0x3F1BD7CA#32
  | 112 => 0x3F800000#32
  | 113 => 0x3F1BD7CA#32
  | 114 => 0xBE8483EE#32
  | 115 => 0xBF6C835E#32
  | 116 => 0xBF5DB3D7#32
  | 117 => 0xBE05A8A8#32
  | 118 => 0x3F3504F3#32
  | 119 => 0x3F7DCF55#32
  | 120 => 0x3F000000#32
  | 121 => 0xBEC3EF15#32
  | 122 => 0xBF7746EA#32
  | 123 => 0xBF4B1934#32
  | 124 => 0xA553C9CA#32
  | 125 => 0x3F4B1934#32
  | 126 => 0x3F7746EA#32
  | 127 => 0x3EC3EF15#32
  | _ => 0#32

noncomputable abbrev lit0t0_95 (i : Nat) : BitVec 32 := match i % 128 with
  | 0 => 0xBF000000#32
  | 1 => 0xBF7DCF55#32
  | 2 => 0xBF3504F3#32
  | 3 => 0x3E05A8A8#32
  | 4 => 0x3F5DB3D7#32
  | 5 => 0x3F6C835E#32
  | 6 => 0x3E8483EE#32
  | 7 => 0xBF1BD7CA#32
  | 8 => 0xBF800000#32
  | 9 => 0xBF1BD7CA#32
  | 10 => 0x3E8483EE#32
  | 11 => 0x3F6C835E#32
  | 12 => 0x3F5DB3D7#32
  | 13 => 0x3E05A8A8#32
  | 14 => 0xBF3504F3#32
  | 15 => 0xBF7DCF55#32
  | 16 => 0xBF000000#32
  | 17 => 0x3EC3EF15#32
  | 18 => 0x3F7746EA#32
  | 19 => 0x3F4B1934#32
  | 20 => 0x248D3132#32
  | 21 => 0xBF4B1934#32
  | 22 => 0xBF7746EA#32
  | 23 => 0xBEC3EF15#32
  | 24 => 0x3F000000#32
  | 25 => 0x3F7DCF55#32
  | 26 => 0x3F3504F3#32
  | 27 => 0xBE05A8A8#32
  | 28 => 0xBF5DB3D7#32
  | 29 => 0xBF6C835E#32
  | 30 => 0xBE8483EE#32
  | 31 => 0x3F1BD7CA#32
  | 32 => 0x3F800000#32
  | 33 => 0x3F1BD7CA#32
  | 34 => 0xBE8483EE#32
  | 35 => 0xBF6C835E#32
  | 36 => 0xBF5DB3D7#32
  | 37 => 0xBE05A8A8#32
  | 38 => 0x3F3504F3#32
  | 39 => 0x3F7DCF55#32
  | 40 => 0x3F000000#32
  | 41 => 0xBEC3EF15#32
  | 42 => 0xBF7746EA#32
  | 43 => 0xBF4B1934#32
  | 44 => 0xA553C9CA#32
  | 45 => 0x3F4B1934#32
  | 46 => 0x3F7746EA#32
  | 47 => 0x3EC3EF15#32
  | 48 => 0xBF000000#32
  | 49 => 0xBF7DCF55#32
  | 50 => 0xBF3504F3#32
  | 51 => 0x3E05A8A8#32
  | 52 => 0x3F5DB3D7#32
  | 53 => 0x3F6C835E#32
  | 54 => 0x3E8483EE#32
  | 55 => 0xBF1BD7CA#32
  | 56 => 0xBF800000#32
  | 57 => 0xBF1BD7CA#32
  | 58 => 0x3E8483EE#32
  | 59 => 0x3F6C835E#32
  | 60 => 0x3F5DB3D7#32
  | 61 => 0x3E05A8A8#32
  | 62 => 0xBF3504F3#32
  | 63 => 0xBF7DCF55#32
  | 64 => 0xBF000000#32
  | 65 => 0x3EC3EF15#32
  | 66 => 0x3F7746EA#32
  | 67 => 0x3F4B1934#32
  | 68 => 0x248D3132#32
  | 69 => 0xBF4B1934#32
  | 70 => 0xBF7746EA#32
  | 71 => 0xBEC3EF15#32
  | 72 => 0x3F000000#32
  | 73 => 0x3F7DCF55#32
  | 74 => 0x3F3504F3#32
  | 75 => 0xBE05A8A8#32
  | 76 => 0xBF5DB3D7#32
  | 77 => 0xBF6C835E#32
  | 78 => 0xBE8483EE#32
  | 79 => 0x3F1BD7CA#32
  | 80 => 0x3F800000#32
  | 81 => 0x3F1BD7CA#32
  | 82 => 0xBE8483EE#32
  | 83 => 0xBF6C835E#32
  | 84 => 0xBF5DB3D7#32
  | 85 => 0xBE05A8A8#32
  | 86 => 0x3F3504F3#32
  | 87 => 0x3F7DCF55#32
  | 88 => 0x3F000000#32
  | 89 => 0xBEC3EF15#32
  | 90 => 0xBF7746EA#32
  | 91 => 0xBF4B1934#32
  | 92 => 0xA553C9CA#32
  | 93 => 0x3F4B1934#32
  | 94 => 0x3F7746EA#32
  | 95 => 0x3EC3EF15#32
  | 96 => 0xBF000000#32
  | 97 => 0xBF7DCF55#32
  | 98 => 0xBF3504F3#32
  | 99 => 0x3E05A8A8#32
  | 100 => 0x3F5DB3D7#32
  | 101 => 0x3F6C835E#32
  | 102 => 0x3E8483EE#32
  | 103 => 0xBF1BD7CA#32
  | 104 => 0xBF800000#32
  | 105 => 0xBF1BD7CA#32
  | 106 => 0x3E8483EE#32
  | 107 => 0x3F6C835E#32
  | 108 => 0x3F5DB3D7#32
  | 109 => 0x3E05A8A8#32
  | 110 => 0xBF3504F3#32
  | 111 => 0xBF7DCF55#32
  | 112 => 0xBF000000#32
  | 113 => 0x3EC3EF15#32
  | 114 => 0x3F7746EA#32
  | 115 => 0x3F4B1934#32
  | 116 => 0x248D3132#32
  | 117 => 0xBF4B1934#32
  | 118 => 0xBF7746EA#32
  | 119 => 0xBEC3EF15#32
  | 120 => 0x3F000000#32
  | 121 => 0x3F7DCF55#32
  | 122 => 0x3F3504F3#32
  | 123 => 0xBE05A8A8#32
  | 124 => 0xBF5DB3D7#32
  | 125 => 0xBF6C835E#32
  | 126 => 0xBE8483EE#32
  | 127 => 0x3F1BD7CA#32
  | _ => 0#32

noncomputable abbrev lit0t0_96 (i : Nat) : BitVec 32 := match i % 128 with
  | 0 => 0x3F800000#32
  | 1 => 0x3F1BD7CA#32
  | 2 => 0xBE8483EE#32
  | 3 => 0xBF6C835E#32
  | 4 => 0xBF5DB3D7#32
  | 5 => 0xBE05A8A8#32
  | 6 => 0x3F3504F3#32
  | 7 => 0x3F7DCF55#32
  | 8 => 0x3F000000#32
  | 9 => 0xBEC3EF15#32
  | 10 => 0xBF7746EA#32
  | 11 => 0xBF4B1934#32
  | 12 => 0xA553C9CA#32
  | 13 => 0x3F4B1934#32
  | 14 => 0x3F7746EA#32
  | 15 => 0x3EC3EF15#32
  | 16 => 0xBF000000#32
  | 17 => 0xBF7DCF55#32
  | 18 => 0xBF3504F3#32
  | 19 => 0x3E05A8A8#32
  | 20 => 0x3F5DB3D7#32
  | 21 => 0x3F6C835E#32
  | 22 => 0x3E8483EE#32
  | 23 => 0xBF1BD7CA#32
  | 24 => 0xBF800000#32
  | 25 => 0xBF1BD7CA#32
  | 26 => 0x3E8483EE#32
  | 27 => 0x3F6C835E#32
  | 28 => 0x3F5DB3D7#32
  | 29 => 0x3E05A8A8#32
  | 30 => 0xBF3504F3#32
  | 31 => 0xBF7DCF55#32
  | 32 => 0xBF000000#32
  | 33 => 0x3EC3EF15#32
  | 34 => 0x3F7746EA#32
  | 35 => 0x3F4B1934#32
  | 36 => 0x248D3132#32
  | 37 => 0xBF4B1934#32
  | 38 => 0xBF7746EA#32
  | 39 => 0xBEC3EF15#32
  | 40 => 0x3F000000#32
  | 41 => 0x3F7DCF55#32
  | 42 => 0x3F3504F3#32
  | 43 => 0xBE05A8A8#32
  | 44 => 0xBF5DB3D7#32
  | 45 => 0xBF6C835E#32
  | 46 => 0xBE8483EE#32
  | 47 => 0x3F1BD7CA#32
  | 48 => 0x3F800000#32
  | 49 => 0x3F1BD7CA#32
  | 50 => 0xBE8483EE#32
  | 51 => 0xBF6C835E#32
  | 52 => 0xBF5DB3D7#32
  | 53 => 0xBE05A8A8#32
  | 54 => 0x3F3504F3#32
  | 55 => 0x3F7DCF55#32
  | 56 => 0x3F000000#32
  | 57 => 0xBEC3EF15#32
  | 58 => 0xBF7746EA#32
  | 59 => 0xBF4B1934#32
  | 60 => 0xA553C9CA#32
  | 61 => 0x3F4B1934#32
  | 62 => 0x3F7746EA#32
  | 63 => 0x3EC3EF15#32
  | 64 => 0xBF000000#32
  | 65 => 0xBF7DCF55#32
  | 66 => 0xBF3504F3#32
  | 67 => 0x3E05A8A8#32
  | 68 => 0x3F5DB3D7#32
  | 69 => 0x3F6C835E#32
  | 70 => 0x3E8483EE#32
  | 71 => 0xBF1BD7CA#32
  | 72 => 0xBF800000#32
  | 73 => 0xBF1BD7CA#32
  | 74 => 0x3E8483EE#32
  | 75 => 0x3F6C835E#32
  | 76 => 0x3F5DB3D7#32
  | 77 => 0x3E05A8A8#32
  | 78 => 0xBF3504F3#32
  | 79 => 0xBF7DCF55#32
  | 80 => 0xBF000000#32
  | 81 => 0x3EC3EF15#32
  | 82 => 0x3F7746EA#32
  | 83 => 0x3F4B1934#32
  | 84 => 0x248D3132#32
  | 85 => 0xBF4B1934#32
  | 86 => 0xBF7746EA#32
  | 87 => 0xBEC3EF15#32
  | 88 => 0x3F000000#32
  | 89 => 0x3F7DCF55#32
  | 90 => 0x3F3504F3#32
  | 91 => 0xBE05A8A8#32
  | 92 => 0xBF5DB3D7#32
  | 93 => 0xBF6C835E#32
  | 94 => 0xBE8483EE#32
  | 95 => 0x3F1BD7CA#32
  | 96 => 0x3F800000#32
  | 97 => 0x3F176012#32
  | 98 => 0xBE99F61C#32
  | 99 => 0xBF726A03#32
  | 100 => 0xBF51B3F3#32
  | 101 => 0xBCB2B521#32
  | 102 => 0x3F4B1934#32
  | 103 => 0x3F75C5D4#32
  | 104 => 0x3EAF1D44#32
  | 105 => 0xBF0E39DA#32
  | 106 => 0xBF7FC1A0#32
  | 107 => 0xBF203C85#32
  | 108 => 0x3E8483EE#32
  | 109 => 0x3F6E9811#32
  | 110 => 0x3F57E880#32
  | 111 => 0x3D85F213#32
  | 112 => 0xBF441B7D#32
  | 113 => 0xBF78A9E0#32
  | 114 => 0xBEC3EF15#32
  | 115 => 0x3F04CE53#32
  | 116 => 0x3F7F069E#32
  | 117 => 0x3F28CAE3#32
  | 118 => 0xBE5DA259#32
  | 119 => 0xBF6A51DA#32
  | 120 => 0xBF5DB3D7#32
  | 121 => 0xBDDEF599#32
  | 122 => 0x3F3CBE35#32
  | 123 => 0x3F7B14BE#32
  | 124 => 0x3ED8616C#32
  | 125 => 0xBEF64429#32
  | 126 => 0xBF7DCF55#32
  | 127 => 0xBF310700#32
  | _ => 0#32

noncomputable abbrev lit0t0_97 (i : Nat) : BitVec 32 := match i % 128 with
  | 0 => 0x3E31D0D4#32
  | 1 => 0x3F659974#32
  | 2 => 0x3F631324#32
  | 3 => 0x3E1BC63C#32
  | 4 => 0xBF3504F3#32
  | 5 => 0xBF7D0543#32
  | 6 => 0xBEEC6A50#32
  | 7 => 0x3EE273AA#32
  | 8 => 0x3F7C1C5C#32
  | 9 => 0x3F38ECD8#32
  | 10 => 0xBE05A8A8#32
  | 11 => 0xBF60712A#32
  | 12 => 0xBF6803CA#32
  | 13 => 0xBE47C5C2#32
  | 14 => 0x3F2CF37B#32
  | 15 => 0x3F7E7A7A#32
  | 16 => 0x3F000000#32
  | 17 => 0xBECE34D0#32
  | 18 => 0xBF79EE89#32
  | 19 => 0xBF407893#32
  | 20 => 0x3DB27EB6#32
  | 21 => 0x3F5ADB81#32
  | 22 => 0x3F6C835E#32
  | 23 => 0x3E7363EE#32
  | 24 => 0xBF248DBB#32
  | 25 => 0xBF7F73AF#32
  | 26 => 0xBF098C78#32
  | 27 => 0x3EB9917B#32
  | 28 => 0x3F7746EA#32
  | 29 => 0x3F47A682#32
  | 30 => 0xBD32AA3E#32
  | 31 => 0xBF54DB31#32
  | 32 => 0xBF708FB2#32
  | 33 => 0xBE8F45C0#32
  | 34 => 0x3F1BD7CA#32
  | 35 => 0x3F7FF067#32
  | 36 => 0x3F12D5E8#32
  | 37 => 0xBEA493B7#32
  | 38 => 0xBF7426CB#32
  | 39 => 0xBF4E7327#32
  | 40 => 0xA553C9CA#32
  | 41 => 0x3F4E7327#32
  | 42 => 0x3F7426CB#32
  | 43 => 0x3EA493B7#32
  | 44 => 0xBF12D5E8#32
  | 45 => 0xBF7FF067#32
  | 46 => 0xBF1BD7CA#32
  | 47 => 0x3E8F45C0#32
  | 48 => 0x3F708FB2#32
  | 49 => 0x3F54DB31#32
  | 50 => 0x3D32AA3E#32
  | 51 => 0xBF47A682#32
  | 52 => 0xBF7746EA#32
  | 53 => 0xBEB9917B#32
  | 54 => 0x3F098C78#32
  | 55 => 0x3F7F73AF#32
  | 56 => 0x3F248DBB#32
  | 57 => 0xBE7363EE#32
  | 58 => 0xBF6C835E#32
  | 59 => 0xBF5ADB81#32
  | 60 => 0xBDB27EB6#32
  | 61 => 0x3F407893#32
  | 62 => 0x3F79EE89#32
  | 63 => 0x3ECE34D0#32
  | 64 => 0xBF000000#32
  | 65 => 0xBF7E7A7A#32
  | 66 => 0xBF2CF37B#32
  | 67 => 0x3E47C5C2#32
  | 68 => 0x3F6803CA#32
  | 69 => 0x3F60712A#32
  | 70 => 0x3E05A8A8#32
  | 71 => 0xBF38ECD8#32
  | 72 => 0xBF7C1C5C#32
  | 73 => 0xBEE273AA#32
  | 74 => 0x3EEC6A50#32
  | 75 => 0x3F7D0543#32
  | 76 => 0x3F3504F3#32
  | 77 => 0xBE1BC63C#32
  | 78 => 0xBF631324#32
  | 79 => 0xBF659974#32
  | 80 => 0xBE31D0D4#32
  | 81 => 0x3F310700#32
  | 82 => 0x3F7DCF55#32
  | 83 => 0x3EF64429#32
  | 84 => 0xBED8616C#32
  | 85 => 0xBF7B14BE#32
  | 86 => 0xBF3CBE35#32
  | 87 => 0x3DDEF599#32
  | 88 => 0x3F5DB3D7#32
  | 89 => 0x3F6A51DA#32
  | 90 => 0x3E5DA259#32
  | 91 => 0xBF28CAE3#32
  | 92 => 0xBF7F069E#32
  | 93 => 0xBF04CE53#32
  | 94 => 0x3EC3EF15#32
  | 95 => 0x3F78A9E0#32
  | 96 => 0x3F441B7D#32
  | 97 => 0xBD85F213#32
  | 98 => 0xBF57E880#32
  | 99 => 0xBF6E9811#32
  | 100 => 0xBE8483EE#32
  | 101 => 0x3F203C85#32
  | 102 => 0x3F7FC1A0#32
  | 103 => 0x3F0E39DA#32
  | 104 => 0xBEAF1D44#32
  | 105 => 0xBF75C5D4#32
  | 106 => 0xBF4B1934#32
  | 107 => 0x3CB2B521#32
  | 108 => 0x3F51B3F3#32
  | 109 => 0x3F726A03#32
  | 110 => 0x3E99F61C#32
  | 111 => 0xBF176012#32
  | 112 => 0xBF800000#32
  | 113 => 0xBF176012#32
  | 114 => 0x3E99F61C#32
  | 115 => 0x3F726A03#32
  | 116 => 0x3F51B3F3#32
  | 117 => 0x3CB2B521#32
  | 118 => 0xBF4B1934#32
  | 119 => 0xBF75C5D4#32
  | 120 => 0xBEAF1D44#32
  | 121 => 0x3F0E39DA#32
  | 122 => 0x3F7FC1A0#32
  | 123 => 0x3F203C85#32
  | 124 => 0xBE8483EE#32
  | 125 => 0xBF6E9811#32
  | 126 => 0xBF57E880#32
  | 127 => 0xBD85F213#32
  | _ => 0#32

noncomputable abbrev lit0t0_98 (i : Nat) : BitVec 32 := match i % 128 with
  | 0 => 0x3F441B7D#32
  | 1 => 0x3F78A9E0#32
  | 2 => 0x3EC3EF15#32
  | 3 => 0xBF04CE53#32
  | 4 => 0xBF7F069E#32
  | 5 => 0xBF28CAE3#32
  | 6 => 0x3E5DA259#32
  | 7 => 0x3F6A51DA#32
  | 8 => 0x3F5DB3D7#32
  | 9 => 0x3DDEF599#32
  | 10 => 0xBF3CBE35#32
  | 11 => 0xBF7B14BE#32
  | 12 => 0xBED8616C#32
  | 13 => 0x3EF64429#32
  | 14 => 0x3F7DCF55#32
  | 15 => 0x3F310700#32
  | 16 => 0xBE31D0D4#32
  | 17 => 0xBF659974#32
  | 18 => 0xBF631324#32
  | 19 => 0xBE1BC63C#32
  | 20 => 0x3F3504F3#32
  | 21 => 0x3F7D0543#32
  | 22 => 0x3EEC6A50#32
  | 23 => 0xBEE273AA#32
  | 24 => 0xBF7C1C5C#32
  | 25 => 0xBF38ECD8#32
  | 26 => 0x3E05A8A8#32
  | 27 => 0x3F60712A#32
  | 28 => 0x3F6803CA#32
  | 29 => 0x3E47C5C2#32
  | 30 => 0xBF2CF37B#32
  | 31 => 0xBF7E7A7A#32
  | 32 => 0xBF000000#32
  | 33 => 0x3ECE34D0#32
  | 34 => 0x3F79EE89#32
  | 35 => 0x3F407893#32
  | 36 => 0xBDB27EB6#32
  | 37 => 0xBF5ADB81#32
  | 38 => 0xBF6C835E#32
  | 39 => 0xBE7363EE#32
  | 40 => 0x3F248DBB#32
  | 41 => 0x3F7F73AF#32
  | 42 => 0x3F098C78#32
  | 43 => 0xBEB9917B#32
  | 44 => 0xBF7746EA#32
  | 45 => 0xBF47A682#32
  | 46 => 0x3D32AA3E#32
  | 47 => 0x3F54DB31#32
  | 48 => 0x3F708FB2#32
  | 49 => 0x3E8F45C0#32
  | 50 => 0xBF1BD7CA#32
  | 51 => 0xBF7FF067#32
  | 52 => 0xBF12D5E8#32
  | 53 => 0x3EA493B7#32
  | 54 => 0x3F7426CB#32
  | 55 => 0x3F4E7327#32
  | 56 => 0x248D3132#32
  | 57 => 0xBF4E7327#32
  | 58 => 0xBF7426CB#32
  | 59 => 0xBEA493B7#32
  | 60 => 0x3F12D5E8#32
  | 61 => 0x3F7FF067#32
  | 62 => 0x3F1BD7CA#32
  | 63 => 0xBE8F45C0#32
  | 64 => 0xBF708FB2#32
  | 65 => 0xBF54DB31#32
  | 66 => 0xBD32AA3E#32
  | 67 => 0x3F47A682#32
  | 68 => 0x3F7746EA#32
  | 69 => 0x3EB9917B#32
  | 70 => 0xBF098C78#32
  | 71 => 0xBF7F73AF#32
  | 72 => 0xBF248DBB#32
  | 73 => 0x3E7363EE#32
  | 74 => 0x3F6C835E#32
  | 75 => 0x3F5ADB81#32
  | 76 => 0x3DB27EB6#32
  | 77 => 0xBF407893#32
  | 78 => 0xBF79EE89#32
  | 79 => 0xBECE34D0#32
  | 80 => 0x3F000000#32
  | 81 => 0x3F7E7A7A#32
  | 82 => 0x3F2CF37B#32
  | 83 => 0xBE47C5C2#32
  | 84 => 0xBF6803CA#32
  | 85 => 0xBF60712A#32
  | 86 => 0xBE05A8A8#32
  | 87 => 0x3F38ECD8#32
  | 88 => 0x3F7C1C5C#32
  | 89 => 0x3EE273AA#32
  | 90 => 0xBEEC6A50#32
  | 91 => 0xBF7D0543#32
  | 92 => 0xBF3504F3#32
  | 93 => 0x3E1BC63C#32
  | 94 => 0x3F631324#32
  | 95 => 0x3F659974#32
  | 96 => 0x3E31D0D4#32
  | 97 => 0xBF310700#32
  | 98 => 0xBF7DCF55#32
  | 99 => 0xBEF64429#32
  | 100 => 0x3ED8616C#32
  | 101 => 0x3F7B14BE#32
  | 102 => 0x3F3CBE35#32
  | 103 => 0xBDDEF599#32
  | 104 => 0xBF5DB3D7#32
  | 105 => 0xBF6A51DA#32
  | 106 => 0xBE5DA259#32
  | 107 => 0x3F28CAE3#32
  | 108 => 0x3F7F069E#32
  | 109 => 0x3F04CE53#32
  | 110 => 0xBEC3EF15#32
  | 111 => 0xBF78A9E0#32
  | 112 => 0xBF441B7D#32
  | 113 => 0x3D85F213#32
  | 114 => 0x3F57E880#32
  | 115 => 0x3F6E9811#32
  | 116 => 0x3E8483EE#32
  | 117 => 0xBF203C85#32
  | 118 => 0xBF7FC1A0#32
  | 119 => 0xBF0E39DA#32
  | 120 => 0x3EAF1D44#32
  | 121 => 0x3F75C5D4#32
  | 122 => 0x3F4B1934#32
  | 123 => 0xBCB2B521#32
  | 124 => 0xBF51B3F3#32
  | 125 => 0xBF726A03#32
  | 126 => 0xBE99F61C#32
  | 127 => 0x3F176012#32
  | _ => 0#32

noncomputable abbrev lit0t0_99 (i : Nat) : BitVec 32 := match i % 128 with
  | 0 => 0x3F800000#32
  | 1 => 0x3F12D5E8#32
  | 2 => 0xBEAF1D44#32
  | 3 => 0xBF7746EA#32
  | 4 => 0xBF441B7D#32
  | 5 => 0x3DB27EB6#32
  | 6 => 0x3F5DB3D7#32
  | 7 => 0x3F6803CA#32
  | 8 => 0x3E31D0D4#32
  | 9 => 0xBF3504F3#32
  | 10 => 0xBF7C1C5C#32
  | 11 => 0xBED8616C#32
  | 12 => 0x3F000000#32
  | 13 => 0x3F7F069E#32
  | 14 => 0x3F248DBB#32
  | 15 => 0xBE8483EE#32
  | 16 => 0xBF708FB2#32
  | 17 => 0xBF51B3F3#32
  | 18 => 0xA553C9CA#32
  | 19 => 0x3F51B3F3#32
  | 20 => 0x3F708FB2#32
  | 21 => 0x3E8483EE#32
  | 22 => 0xBF248DBB#32
  | 23 => 0xBF7F069E#32
  | 24 => 0xBF000000#32
  | 25 => 0x3ED8616C#32
  | 26 => 0x3F7C1C5C#32
  | 27 => 0x3F3504F3#32
  | 28 => 0xBE31D0D4#32
  | 29 => 0xBF6803CA#32
  | 30 => 0xBF5DB3D7#32
  | 31 => 0xBDB27EB6#32
  | 32 => 0x3F441B7D#32
  | 33 => 0x3F7746EA#32
  | 34 => 0x3EAF1D44#32
  | 35 => 0xBF12D5E8#32
  | 36 => 0xBF800000#32
  | 37 => 0xBF12D5E8#32
  | 38 => 0x3EAF1D44#32
  | 39 => 0x3F7746EA#32
  | 40 => 0x3F441B7D#32
  | 41 => 0xBDB27EB6#32
  | 42 => 0xBF5DB3D7#32
  | 43 => 0xBF6803CA#32
  | 44 => 0xBE31D0D4#32
  | 45 => 0x3F3504F3#32
  | 46 => 0x3F7C1C5C#32
  | 47 => 0x3ED8616C#32
  | 48 => 0xBF000000#32
  | 49 => 0xBF7F069E#32
  | 50 => 0xBF248DBB#32
  | 51 => 0x3E8483EE#32
  | 52 => 0x3F708FB2#32
  | 53 => 0x3F51B3F3#32
  | 54 => 0x248D3132#32
  | 55 => 0xBF51B3F3#32
  | 56 => 0xBF708FB2#32
  | 57 => 0xBE8483EE#32
  | 58 => 0x3F248DBB#32
  | 59 => 0x3F7F069E#32
  | 60 => 0x3F000000#32
  | 61 => 0xBED8616C#32
  | 62 => 0xBF7C1C5C#32
  | 63 => 0xBF3504F3#32
  | 64 => 0x3E31D0D4#32
  | 65 => 0x3F6803CA#32
  | 66 => 0x3F5DB3D7#32
  | 67 => 0x3DB27EB6#32
  | 68 => 0xBF441B7D#32
  | 69 => 0xBF7746EA#32
  | 70 => 0xBEAF1D44#32
  | 71 => 0x3F12D5E8#32
  | 72 => 0x3F800000#32
  | 73 => 0x3F12D5E8#32
  | 74 => 0xBEAF1D44#32
  | 75 => 0xBF7746EA#32
  | 76 => 0xBF441B7D#32
  | 77 => 0x3DB27EB6#32
  | 78 => 0x3F5DB3D7#32
  | 79 => 0x3F6803CA#32
  | 80 => 0x3E31D0D4#32
  | 81 => 0xBF3504F3#32
  | 82 => 0xBF7C1C5C#32
  | 83 => 0xBED8616C#32
  | 84 => 0x3F000000#32
  | 85 => 0x3F7F069E#32
  | 86 => 0x3F248DBB#32
  | 87 => 0xBE8483EE#32
  | 88 => 0xBF708FB2#32
  | 89 => 0xBF51B3F3#32
  | 90 => 0xA553C9CA#32
  | 91 => 0x3F51B3F3#32
  | 92 => 0x3F708FB2#32
  | 93 => 0x3E8483EE#32
  | 94 => 0xBF248DBB#32
  | 95 => 0xBF7F069E#32
  | 96 => 0xBF000000#32
  | 97 => 0x3ED8616C#32
  | 98 => 0x3F7C1C5C#32
  | 99 => 0x3F3504F3#32
  | 100 => 0xBE31D0D4#32
  | 101 => 0xBF6803CA#32
  | 102 => 0xBF5DB3D7#32
  | 103 => 0xBDB27EB6#32
  | 104 => 0x3F441B7D#32
  | 105 => 0x3F7746EA#32
  | 106 => 0x3EAF1D44#32
  | 107 => 0xBF12D5E8#32
  | 108 => 0xBF800000#32
  | 109 => 0xBF12D5E8#32
  | 110 => 0x3EAF1D44#32
  | 111 => 0x3F7746EA#32
  | 112 => 0x3F441B7D#32
  | 113 => 0xBDB27EB6#32
  | 114 => 0xBF5DB3D7#32
  | 115 => 0xBF6803CA#32
  | 116 => 0xBE31D0D4#32
  | 117 => 0x3F3504F3#32
  | 118 => 0x3F7C1C5C#32
  | 119 => 0x3ED8616C#32
  | 120 => 0xBF000000#32
  | 121 => 0xBF7F069E#32
  | 122 => 0xBF248DBB#32
  | 123 => 0x3E8483EE#32
  | 124 => 0x3F708FB2#32
  | 125 => 0x3F51B3F3#32
  | 126 => 0x248D3132#32
  | 127 => 0xBF51B3F3#32
  | _ => 0#32

noncomputable abbrev lit0t0_100 (i : Nat) : BitVec 32 := match i % 128 with
  | 0 => 0xBF708FB2#32
  | 1 => 0xBE8483EE#32
  | 2 => 0x3F248DBB#32
  | 3 => 0x3F7F069E#32
  | 4 => 0x3F000000#32
  | 5 => 0xBED8616C#32
  | 6 => 0xBF7C1C5C#32
  | 7 => 0xBF3504F3#32
  | 8 => 0x3E31D0D4#32
  | 9 => 0x3F6803CA#32
  | 10 => 0x3F5DB3D7#32
  | 11 => 0x3DB27EB6#32
  | 12 => 0xBF441B7D#32
  | 13 => 0xBF7746EA#32
  | 14 => 0xBEAF1D44#32
  | 15 => 0x3F12D5E8#32
  | 16 => 0x3F800000#32
  | 17 => 0x3F12D5E8#32
  | 18 => 0xBEAF1D44#32
  | 19 => 0xBF7746EA#32
  | 20 => 0xBF441B7D#32
  | 21 => 0x3DB27EB6#32
  | 22 => 0x3F5DB3D7#32
  | 23 => 0x3F6803CA#32
  | 24 => 0x3E31D0D4#32
  | 25 => 0xBF3504F3#32
  | 26 => 0xBF7C1C5C#32
  | 27 => 0xBED8616C#32
  | 28 => 0x3F000000#32
  | 29 => 0x3F7F069E#32
  | 30 => 0x3F248DBB#32
  | 31 => 0xBE8483EE#32
  | 32 => 0xBF708FB2#32
  | 33 => 0xBF51B3F3#32
  | 34 => 0xA553C9CA#32
  | 35 => 0x3F51B3F3#32
  | 36 => 0x3F708FB2#32
  | 37 => 0x3E8483EE#32
  | 38 => 0xBF248DBB#32
  | 39 => 0xBF7F069E#32
  | 40 => 0xBF000000#32
  | 41 => 0x3ED8616C#32
  | 42 => 0x3F7C1C5C#32
  | 43 => 0x3F3504F3#32
  | 44 => 0xBE31D0D4#32
  | 45 => 0xBF6803CA#32
  | 46 => 0xBF5DB3D7#32
  | 47 => 0xBDB27EB6#32
  | 48 => 0x3F441B7D#32
  | 49 => 0x3F7746EA#32
  | 50 => 0x3EAF1D44#32
  | 51 => 0xBF12D5E8#32
  | 52 => 0xBF800000#32
  | 53 => 0xBF12D5E8#32
  | 54 => 0x3EAF1D44#32
  | 55 => 0x3F7746EA#32
  | 56 => 0x3F441B7D#32
  | 57 => 0xBDB27EB6#32
  | 58 => 0xBF5DB3D7#32
  | 59 => 0xBF6803CA#32
  | 60 => 0xBE31D0D4#32
  | 61 => 0x3F3504F3#32
  | 62 => 0x3F7C1C5C#32
  | 63 => 0x3ED8616C#32
  | 64 => 0xBF000000#32
  | 65 => 0xBF7F069E#32
  | 66 => 0xBF248DBB#32
  | 67 => 0x3E8483EE#32
  | 68 => 0x3F708FB2#32
  | 69 => 0x3F51B3F3#32
  | 70 => 0x248D3132#32
  | 71 => 0xBF51B3F3#32
  | 72 => 0xBF708FB2#32
  | 73 => 0xBE8483EE#32
  | 74 => 0x3F248DBB#32
  | 75 => 0x3F7F069E#32
  | 76 => 0x3F000000#32
  | 77 => 0xBED8616C#32
  | 78 => 0xBF7C1C5C#32
  | 79 => 0xBF3504F3#32
  | 80 => 0x3E31D0D4#32
  | 81 => 0x3F6803CA#32
  | 82 => 0x3F5DB3D7#32
  | 83 => 0x3DB27EB6#32
  | 84 => 0xBF441B7D#32
  | 85 => 0xBF7746EA#32
  | 86 => 0xBEAF1D44#32
  | 87 => 0x3F12D5E8#32
  | 88 => 0x3F800000#32
  | 89 => 0x3F12D5E8#32
  | 90 => 0xBEAF1D44#32
  | 91 => 0xBF7746EA#32
  | 92 => 0xBF441B7D#32
  | 93 => 0x3DB27EB6#32
  | 94 => 0x3F5DB3D7#32
  | 95 => 0x3F6803CA#32
  | 96 => 0x3E31D0D4#32
  | 97 => 0xBF3504F3#32
  | 98 => 0xBF7C1C5C#32
  | 99 => 0xBED8616C#32
  | 100 => 0x3F000000#32
  | 101 => 0x3F7F069E#32
  | 102 => 0x3F248DBB#32
  | 103 => 0xBE8483EE#32
  | 104 => 0xBF708FB2#32
  | 105 => 0xBF51B3F3#32
  | 106 => 0xA553C9CA#32
  | 107 => 0x3F51B3F3#32
  | 108 => 0x3F708FB2#32
  | 109 => 0x3E8483EE#32
  | 110 => 0xBF248DBB#32
  | 111 => 0xBF7F069E#32
  | 112 => 0xBF000000#32
  | 113 => 0x3ED8616C#32
  | 114 => 0x3F7C1C5C#32
  | 115 => 0x3F3504F3#32
  | 116 => 0xBE31D0D4#32
  | 117 => 0xBF6803CA#32
  | 118 => 0xBF5DB3D7#32
  | 119 => 0xBDB27EB6#32
  | 120 => 0x3F441B7D#32
  | 121 => 0x3F7746EA#32
  | 122 => 0x3EAF1D44#32
  | 123 => 0xBF12D5E8#32
  | 124 => 0xBF800000#32
  | 125 => 0xBF12D5E8#32
  | 126 => 0x3EAF1D44#32
  | 127 => 0x3F7746EA#32
  | _ => 0#32

noncomputable abbrev lit0t0_101 (i : Nat) : BitVec 32 := match i % 128 with
  | 0 => 0x3F441B7D#32
  | 1 => 0xBDB27EB6#32
  | 2 => 0xBF5DB3D7#32
  | 3 => 0xBF6803CA#32
  | 4 => 0xBE31D0D4#32
  | 5 => 0x3F3504F3#32
  | 6 => 0x3F7C1C5C#32
  | 7 => 0x3ED8616C#32
  | 8 => 0xBF000000#32
  | 9 => 0xBF7F069E#32
  | 10 => 0xBF248DBB#32
  | 11 => 0x3E8483EE#32
  | 12 => 0x3F708FB2#32
  | 13 => 0x3F51B3F3#32
  | 14 => 0x248D3132#32
  | 15 => 0xBF51B3F3#32
  | 16 => 0xBF708FB2#32
  | 17 => 0xBE8483EE#32
  | 18 => 0x3F248DBB#32
  | 19 => 0x3F7F069E#32
  | 20 => 0x3F000000#32
  | 21 => 0xBED8616C#32
  | 22 => 0xBF7C1C5C#32
  | 23 => 0xBF3504F3#32
  | 24 => 0x3E31D0D4#32
  | 25 => 0x3F6803CA#32
  | 26 => 0x3F5DB3D7#32
  | 27 => 0x3DB27EB6#32
  | 28 => 0xBF441B7D#32
  | 29 => 0xBF7746EA#32
  | 30 => 0xBEAF1D44#32
  | 31 => 0x3F12D5E8#32
  | 32 => 0x3F800000#32
  | 33 => 0x3F0E39DA#32
  | 34 => 0xBEC3EF15#32
  | 35 => 0xBF7B14BE#32
  | 36 => 0xBF3504F3#32
  | 37 => 0x3E47C5C2#32
  | 38 => 0x3F6C835E#32
  | 39 => 0x3F54DB31#32
  | 40 => 0x248D3132#32
  | 41 => 0xBF54DB31#32
  | 42 => 0xBF6C835E#32
  | 43 => 0xBE47C5C2#32
  | 44 => 0x3F3504F3#32
  | 45 => 0x3F7B14BE#32
  | 46 => 0x3EC3EF15#32
  | 47 => 0xBF0E39DA#32
  | 48 => 0xBF800000#32
  | 49 => 0xBF0E39DA#32
  | 50 => 0x3EC3EF15#32
  | 51 => 0x3F7B14BE#32
  | 52 => 0x3F3504F3#32
  | 53 => 0xBE47C5C2#32
  | 54 => 0xBF6C835E#32
  | 55 => 0xBF54DB31#32
  | 56 => 0xA553C9CA#32
  | 57 => 0x3F54DB31#32
  | 58 => 0x3F6C835E#32
  | 59 => 0x3E47C5C2#32
  | 60 => 0xBF3504F3#32
  | 61 => 0xBF7B14BE#32
  | 62 => 0xBEC3EF15#32
  | 63 => 0x3F0E39DA#32
  | 64 => 0x3F800000#32
  | 65 => 0x3F0E39DA#32
  | 66 => 0xBEC3EF15#32
  | 67 => 0xBF7B14BE#32
  | 68 => 0xBF3504F3#32
  | 69 => 0x3E47C5C2#32
  | 70 => 0x3F6C835E#32
  | 71 => 0x3F54DB31#32
  | 72 => 0x248D3132#32
  | 73 => 0xBF54DB31#32
  | 74 => 0xBF6C835E#32
  | 75 => 0xBE47C5C2#32
  | 76 => 0x3F3504F3#32
  | 77 => 0x3F7B14BE#32
  | 78 => 0x3EC3EF15#32
  | 79 => 0xBF0E39DA#32
  | 80 => 0xBF800000#32
  | 81 => 0xBF0E39DA#32
  | 82 => 0x3EC3EF15#32
  | 83 => 0x3F7B14BE#32
  | 84 => 0x3F3504F3#32
  | 85 => 0xBE47C5C2#32
  | 86 => 0xBF6C835E#32
  | 87 => 0xBF54DB31#32
  | 88 => 0xA553C9CA#32
  | 89 => 0x3F54DB31#32
  | 90 => 0x3F6C835E#32
  | 91 => 0x3E47C5C2#32
  | 92 => 0xBF3504F3#32
  | 93 => 0xBF7B14BE#32
  | 94 => 0xBEC3EF15#32
  | 95 => 0x3F0E39DA#32
  | 96 => 0x3F800000#32
  | 97 => 0x3F0E39DA#32
  | 98 => 0xBEC3EF15#32
  | 99 => 0xBF7B14BE#32
  | 100 => 0xBF3504F3#32
  | 101 => 0x3E47C5C2#32
  | 102 => 0x3F6C835E#32
  | 103 => 0x3F54DB31#32
  | 104 => 0x248D3132#32
  | 105 => 0xBF54DB31#32
  | 106 => 0xBF6C835E#32
  | 107 => 0xBE47C5C2#32
  | 108 => 0x3F3504F3#32
  | 109 => 0x3F7B14BE#32
  | 110 => 0x3EC3EF15#32
  | 111 => 0xBF0E39DA#32
  | 112 => 0xBF800000#32
  | 113 => 0xBF0E39DA#32
  | 114 => 0x3EC3EF15#32
  | 115 => 0x3F7B14BE#32
  | 116 => 0x3F3504F3#32
  | 117 => 0xBE47C5C2#32
  | 118 => 0xBF6C835E#32
  | 119 => 0xBF54DB31#32
  | 120 => 0xA553C9CA#32
  | 121 => 0x3F54DB31#32
  | 122 => 0x3F6C835E#32
  | 123 => 0x3E47C5C2#32
  | 124 => 0xBF3504F3#32
  | 125 => 0xBF7B14BE#32
  | 126 => 0xBEC3EF15#32
  | 127 => 0x3F0E39DA#32
  | _ => 0#32

noncomputable abbrev lit0t0_102 (i : Nat) : BitVec 32 := match i % 128 with
  | 0 => 0x3F800000#32
  | 1 => 0x3F0E39DA#32
  | 2 => 0xBEC3EF15#32
  | 3 => 0xBF7B14BE#32
  | 4 => 0xBF3504F3#32
  | 5 => 0x3E47C5C2#32
  | 6 => 0x3F6C835E#32
  | 7 => 0x3F54DB31#32
  | 8 => 0x248D3132#32
  | 9 => 0xBF54DB31#32
  | 10 => 0xBF6C835E#32
  | 11 => 0xBE47C5C2#32
  | 12 => 0x3F3504F3#32
  | 13 => 0x3F7B14BE#32
  | 14 => 0x3EC3EF15#32
  | 15 => 0xBF0E39DA#32
  | 16 => 0xBF800000#32
  | 17 => 0xBF0E39DA#32
  | 18 => 0x3EC3EF15#32
  | 19 => 0x3F7B14BE#32
  | 20 => 0x3F3504F3#32
  | 21 => 0xBE47C5C2#32
  | 22 => 0xBF6C835E#32
  | 23 => 0xBF54DB31#32
  | 24 => 0xA553C9CA#32
  | 25 => 0x3F54DB31#32
  | 26 => 0x3F6C835E#32
  | 27 => 0x3E47C5C2#32
  | 28 => 0xBF3504F3#32
  | 29 => 0xBF7B14BE#32
  | 30 => 0xBEC3EF15#32
  | 31 => 0x3F0E39DA#32
  | 32 => 0x3F800000#32
  | 33 => 0x3F0E39DA#32
  | 34 => 0xBEC3EF15#32
  | 35 => 0xBF7B14BE#32
  | 36 => 0xBF3504F3#32
  | 37 => 0x3E47C5C2#32
  | 38 => 0x3F6C835E#32
  | 39 => 0x3F54DB31#32
  | 40 => 0x248D3132#32
  | 41 => 0xBF54DB31#32
  | 42 => 0xBF6C835E#32
  | 43 => 0xBE47C5C2#32
  | 44 => 0x3F3504F3#32
  | 45 => 0x3F7B14BE#32
  | 46 => 0x3EC3EF15#32
  | 47 => 0xBF0E39DA#32
  | 48 => 0xBF800000#32
  | 49 => 0xBF0E39DA#32
  | 50 => 0x3EC3EF15#32
  | 51 => 0x3F7B14BE#32
  | 52 => 0x3F3504F3#32
  | 53 => 0xBE47C5C2#32
  | 54 => 0xBF6C835E#32
  | 55 => 0xBF54DB31#32
  | 56 => 0xA553C9CA#32
  | 57 => 0x3F54DB31#32
  | 58 => 0x3F6C835E#32
  | 59 => 0x3E47C5C2#32
  | 60 => 0xBF3504F3#32
  | 61 => 0xBF7B14BE#32
  | 62 => 0xBEC3EF15#32
  | 63 => 0x3F0E39DA#32
  | 64 => 0x3F800000#32
  | 65 => 0x3F0E39DA#32
  | 66 => 0xBEC3EF15#32
  | 67 => 0xBF7B14BE#32
  | 68 => 0xBF3504F3#32
  | 69 => 0x3E47C5C2#32
  | 70 => 0x3F6C835E#32
  | 71 => 0x3F54DB31#32
  | 72 => 0x248D3132#32
  | 73 => 0xBF54DB31#32
  | 74 => 0xBF6C835E#32
  | 75 => 0xBE47C5C2#32
  | 76 => 0x3F3504F3#32
  | 77 => 0x3F7B14BE#32
  | 78 => 0x3EC3EF15#32
  | 79 => 0xBF0E39DA#32
  | 80 => 0xBF800000#32
  | 81 => 0xBF0E39DA#32
  | 82 => 0x3EC3EF15#32
  | 83 => 0x3F7B14BE#32
  | 84 => 0x3F3504F3#32
  | 85 => 0xBE47C5C2#32
  | 86 => 0xBF6C835E#32
  | 87 => 0xBF54DB31#32
  | 88 => 0xA553C9CA#32
  | 89 => 0x3F54DB31#32
  | 90 => 0x3F6C835E#32
  | 91 => 0x3E47C5C2#32
  | 92 => 0xBF3504F3#32
  | 93 => 0xBF7B14BE#32
  | 94 => 0xBEC3EF15#32
  | 95 => 0x3F0E39DA#32
  | 96 => 0x3F800000#32
  | 97 => 0x3F0E39DA#32
  | 98 => 0xBEC3EF15#32
  | 99 => 0xBF7B14BE#32
  | 100 => 0xBF3504F3#32
  | 101 => 0x3E47C5C2#32
  | 102 => 0x3F6C835E#32
  | 103 => 0x3F54DB31#32
  | 104 => 0x248D3132#32
  | 105 => 0xBF54DB31#32
  | 106 => 0xBF6C835E#32
  | 107 => 0xBE47C5C2#32
  | 108 => 0x3F3504F3#32
  | 109 => 0x3F7B14BE#32
  | 110 => 0x3EC3EF15#32
  | 111 => 0xBF0E39DA#32
  | 112 => 0xBF800000#32
  | 113 => 0xBF0E39DA#32
  | 114 => 0x3EC3EF15#32
  | 115 => 0x3F7B14BE#32
  | 116 => 0x3F3504F3#32
  | 117 => 0xBE47C5C2#32
  | 118 => 0xBF6C835E#32
  | 119 => 0xBF54DB31#32
  | 120 => 0xA553C9CA#32
  | 121 => 0x3F54DB31#32
  | 122 => 0x3F6C835E#32
  | 123 => 0x3E47C5C2#32
  | 124 => 0xBF3504F3#32
  | 125 => 0xBF7B14BE#32
  | 126 => 0xBEC3EF15#32
  | 127 => 0x3F0E39DA#32
  | _ => 0#32

noncomputable abbrev lit0t0_103 (i : Nat) : BitVec 32 := match i % 128 with
  | 0 => 0x3F800000#32
  | 1 => 0x3F0E39DA#32
  | 2 => 0xBEC3EF15#32
  | 3 => 0xBF7B14BE#32
  | 4 => 0xBF3504F3#32
  | 5 => 0x3E47C5C2#32
  | 6 => 0x3F6C835E#32
  | 7 => 0x3F54DB31#32
  | 8 => 0x248D3132#32
  | 9 => 0xBF54DB31#32
  | 10 => 0xBF6C835E#32
  | 11 => 0xBE47C5C2#32
  | 12 => 0x3F3504F3#32
  | 13 => 0x3F7B14BE#32
  | 14 => 0x3EC3EF15#32
  | 15 => 0xBF0E39DA#32
  | 16 => 0xBF800000#32
  | 17 => 0xBF0E39DA#32
  | 18 => 0x3EC3EF15#32
  | 19 => 0x3F7B14BE#32
  | 20 => 0x3F3504F3#32
  | 21 => 0xBE47C5C2#32
  | 22 => 0xBF6C835E#32
  | 23 => 0xBF54DB31#32
  | 24 => 0xA553C9CA#32
  | 25 => 0x3F54DB31#32
  | 26 => 0x3F6C835E#32
  | 27 => 0x3E47C5C2#32
  | 28 => 0xBF3504F3#32
  | 29 => 0xBF7B14BE#32
  | 30 => 0xBEC3EF15#32
  | 31 => 0x3F0E39DA#32
  | 32 => 0x3F800000#32
  | 33 => 0x3F0E39DA#32
  | 34 => 0xBEC3EF15#32
  | 35 => 0xBF7B14BE#32
  | 36 => 0xBF3504F3#32
  | 37 => 0x3E47C5C2#32
  | 38 => 0x3F6C835E#32
  | 39 => 0x3F54DB31#32
  | 40 => 0x248D3132#32
  | 41 => 0xBF54DB31#32
  | 42 => 0xBF6C835E#32
  | 43 => 0xBE47C5C2#32
  | 44 => 0x3F3504F3#32
  | 45 => 0x3F7B14BE#32
  | 46 => 0x3EC3EF15#32
  | 47 => 0xBF0E39DA#32
  | 48 => 0xBF800000#32
  | 49 => 0xBF0E39DA#32
  | 50 => 0x3EC3EF15#32
  | 51 => 0x3F7B14BE#32
  | 52 => 0x3F3504F3#32
  | 53 => 0xBE47C5C2#32
  | 54 => 0xBF6C835E#32
  | 55 => 0xBF54DB31#32
  | 56 => 0xA553C9CA#32
  | 57 => 0x3F54DB31#32
  | 58 => 0x3F6C835E#32
  | 59 => 0x3E47C5C2#32
  | 60 => 0xBF3504F3#32
  | 61 => 0xBF7B14BE#32
  | 62 => 0xBEC3EF15#32
  | 63 => 0x3F0E39DA#32
  | 64 => 0x3F800000#32
  | 65 => 0x3F098C78#32
  | 66 => 0xBED8616C#32
  | 67 => 0xBF7DCF55#32
  | 68 => 0xBF248DBB#32
  | 69 => 0x3E99F61C#32
  | 70 => 0x3F7746EA#32
  | 71 => 0x3F3CBE35#32
  | 72 => 0xBE31D0D4#32
  | 73 => 0xBF6C835E#32
  | 74 => 0xBF51B3F3#32
  | 75 => 0x3D32AA3E#32
  | 76 => 0x3F5DB3D7#32
  | 77 => 0x3F631324#32
  | 78 => 0x3DB27EB6#32
  | 79 => 0xBF4B1934#32
  | 80 => 0xBF708FB2#32
  | 81 => 0xBE5DA259#32
  | 82 => 0x3F3504F3#32
  | 83 => 0x3F79EE89#32
  | 84 => 0x3EAF1D44#32
  | 85 => 0xBF1BD7CA#32
  | 86 => 0xBF7F069E#32
  | 87 => 0xBEEC6A50#32
  | 88 => 0x3F000000#32
  | 89 => 0x3F7FC1A0#32
  | 90 => 0x3F12D5E8#32
  | 91 => 0xBEC3EF15#32
  | 92 => 0xBF7C1C5C#32
  | 93 => 0xBF2CF37B#32
  | 94 => 0x3E8483EE#32
  | 95 => 0x3F7426CB#32
  | 96 => 0x3F441B7D#32
  | 97 => 0xBE05A8A8#32
  | 98 => 0xBF6803CA#32
  | 99 => 0xBF57E880#32
  | 100 => 0xA553C9CA#32
  | 101 => 0x3F57E880#32
  | 102 => 0x3F6803CA#32
  | 103 => 0x3E05A8A8#32
  | 104 => 0xBF441B7D#32
  | 105 => 0xBF7426CB#32
  | 106 => 0xBE8483EE#32
  | 107 => 0x3F2CF37B#32
  | 108 => 0x3F7C1C5C#32
  | 109 => 0x3EC3EF15#32
  | 110 => 0xBF12D5E8#32
  | 111 => 0xBF7FC1A0#32
  | 112 => 0xBF000000#32
  | 113 => 0x3EEC6A50#32
  | 114 => 0x3F7F069E#32
  | 115 => 0x3F1BD7CA#32
  | 116 => 0xBEAF1D44#32
  | 117 => 0xBF79EE89#32
  | 118 => 0xBF3504F3#32
  | 119 => 0x3E5DA259#32
  | 120 => 0x3F708FB2#32
  | 121 => 0x3F4B1934#32
  | 122 => 0xBDB27EB6#32
  | 123 => 0xBF631324#32
  | 124 => 0xBF5DB3D7#32
  | 125 => 0xBD32AA3E#32
  | 126 => 0x3F51B3F3#32
  | 127 => 0x3F6C835E#32
  | _ => 0#32

noncomputable abbrev lit0t0_104 (i : Nat) : BitVec 32 := match i % 128 with
  | 0 => 0x3E31D0D4#32
  | 1 => 0xBF3CBE35#32
  | 2 => 0xBF7746EA#32
  | 3 => 0xBE99F61C#32
  | 4 => 0x3F248DBB#32
  | 5 => 0x3F7DCF55#32
  | 6 => 0x3ED8616C#32
  | 7 => 0xBF098C78#32
  | 8 => 0xBF800000#32
  | 9 => 0xBF098C78#32
  | 10 => 0x3ED8616C#32
  | 11 => 0x3F7DCF55#32
  | 12 => 0x3F248DBB#32
  | 13 => 0xBE99F61C#32
  | 14 => 0xBF7746EA#32
  | 15 => 0xBF3CBE35#32
  | 16 => 0x3E31D0D4#32
  | 17 => 0x3F6C835E#32
  | 18 => 0x3F51B3F3#32
  | 19 => 0xBD32AA3E#32
  | 20 => 0xBF5DB3D7#32
  | 21 => 0xBF631324#32
  | 22 => 0xBDB27EB6#32
  | 23 => 0x3F4B1934#32
  | 24 => 0x3F708FB2#32
  | 25 => 0x3E5DA259#32
  | 26 => 0xBF3504F3#32
  | 27 => 0xBF79EE89#32
  | 28 => 0xBEAF1D44#32
  | 29 => 0x3F1BD7CA#32
  | 30 => 0x3F7F069E#32
  | 31 => 0x3EEC6A50#32
  | 32 => 0xBF000000#32
  | 33 => 0xBF7FC1A0#32
  | 34 => 0xBF12D5E8#32
  | 35 => 0x3EC3EF15#32
  | 36 => 0x3F7C1C5C#32
  | 37 => 0x3F2CF37B#32
  | 38 => 0xBE8483EE#32
  | 39 => 0xBF7426CB#32
  | 40 => 0xBF441B7D#32
  | 41 => 0x3E05A8A8#32
  | 42 => 0x3F6803CA#32
  | 43 => 0x3F57E880#32
  | 44 => 0x248D3132#32
  | 45 => 0xBF57E880#32
  | 46 => 0xBF6803CA#32
  | 47 => 0xBE05A8A8#32
  | 48 => 0x3F441B7D#32
  | 49 => 0x3F7426CB#32
  | 50 => 0x3E8483EE#32
  | 51 => 0xBF2CF37B#32
  | 52 => 0xBF7C1C5C#32
  | 53 => 0xBEC3EF15#32
  | 54 => 0x3F12D5E8#32
  | 55 => 0x3F7FC1A0#32
  | 56 => 0x3F000000#32
  | 57 => 0xBEEC6A50#32
  | 58 => 0xBF7F069E#32
  | 59 => 0xBF1BD7CA#32
  | 60 => 0x3EAF1D44#32
  | 61 => 0x3F79EE89#32
  | 62 => 0x3F3504F3#32
  | 63 => 0xBE5DA259#32
  | 64 => 0xBF708FB2#32
  | 65 => 0xBF4B1934#32
  | 66 => 0x3DB27EB6#32
  | 67 => 0x3F631324#32
  | 68 => 0x3F5DB3D7#32
  | 69 => 0x3D32AA3E#32
  | 70 => 0xBF51B3F3#32
  | 71 => 0xBF6C835E#32
  | 72 => 0xBE31D0D4#32
  | 73 => 0x3F3CBE35#32
  | 74 => 0x3F7746EA#32
  | 75 => 0x3E99F61C#32
  | 76 => 0xBF248DBB#32
  | 77 => 0xBF7DCF55#32
  | 78 => 0xBED8616C#32
  | 79 => 0x3F098C78#32
  | 80 => 0x3F800000#32
  | 81 => 0x3F098C78#32
  | 82 => 0xBED8616C#32
  | 83 => 0xBF7DCF55#32
  | 84 => 0xBF248DBB#32
  | 85 => 0x3E99F61C#32
  | 86 => 0x3F7746EA#32
  | 87 => 0x3F3CBE35#32
  | 88 => 0xBE31D0D4#32
  | 89 => 0xBF6C835E#32
  | 90 => 0xBF51B3F3#32
  | 91 => 0x3D32AA3E#32
  | 92 => 0x3F5DB3D7#32
  | 93 => 0x3F631324#32
  | 94 => 0x3DB27EB6#32
  | 95 => 0xBF4B1934#32
  | 96 => 0xBF708FB2#32
  | 97 => 0xBE5DA259#32
  | 98 => 0x3F3504F3#32
  | 99 => 0x3F79EE89#32
  | 100 => 0x3EAF1D44#32
  | 101 => 0xBF1BD7CA#32
  | 102 => 0xBF7F069E#32
  | 103 => 0xBEEC6A50#32
  | 104 => 0x3F000000#32
  | 105 => 0x3F7FC1A0#32
  | 106 => 0x3F12D5E8#32
  | 107 => 0xBEC3EF15#32
  | 108 => 0xBF7C1C5C#32
  | 109 => 0xBF2CF37B#32
  | 110 => 0x3E8483EE#32
  | 111 => 0x3F7426CB#32
  | 112 => 0x3F441B7D#32
  | 113 => 0xBE05A8A8#32
  | 114 => 0xBF6803CA#32
  | 115 => 0xBF57E880#32
  | 116 => 0xA553C9CA#32
  | 117 => 0x3F57E880#32
  | 118 => 0x3F6803CA#32
  | 119 => 0x3E05A8A8#32
  | 120 => 0xBF441B7D#32
  | 121 => 0xBF7426CB#32
  | 122 => 0xBE8483EE#32
  | 123 => 0x3F2CF37B#32
  | 124 => 0x3F7C1C5C#32
  | 125 => 0x3EC3EF15#32
  | 126 => 0xBF12D5E8#32
  | 127 => 0xBF7FC1A0#32
  | _ => 0#32

noncomputable abbrev lit0t0_105 (i : Nat) : BitVec 32 := match i % 128 with
  | 0 => 0xBF000000#32
  | 1 => 0x3EEC6A50#32
  | 2 => 0x3F7F069E#32
  | 3 => 0x3F1BD7CA#32
  | 4 => 0xBEAF1D44#32
  | 5 => 0xBF79EE89#32
  | 6 => 0xBF3504F3#32
  | 7 => 0x3E5DA259#32
  | 8 => 0x3F708FB2#32
  | 9 => 0x3F4B1934#32
  | 10 => 0xBDB27EB6#32
  | 11 => 0xBF631324#32
  | 12 => 0xBF5DB3D7#32
  | 13 => 0xBD32AA3E#32
  | 14 => 0x3F51B3F3#32
  | 15 => 0x3F6C835E#32
  | 16 => 0x3E31D0D4#32
  | 17 => 0xBF3CBE35#32
  | 18 => 0xBF7746EA#32
  | 19 => 0xBE99F61C#32
  | 20 => 0x3F248DBB#32
  | 21 => 0x3F7DCF55#32
  | 22 => 0x3ED8616C#32
  | 23 => 0xBF098C78#32
  | 24 => 0xBF800000#32
  | 25 => 0xBF098C78#32
  | 26 => 0x3ED8616C#32
  | 27 => 0x3F7DCF55#32
  | 28 => 0x3F248DBB#32
  | 29 => 0xBE99F61C#32
  | 30 => 0xBF7746EA#32
  | 31 => 0xBF3CBE35#32
  | 32 => 0x3E31D0D4#32
  | 33 => 0x3F6C835E#32
  | 34 => 0x3F51B3F3#32
  | 35 => 0xBD32AA3E#32
  | 36 => 0xBF5DB3D7#32
  | 37 => 0xBF631324#32
  | 38 => 0xBDB27EB6#32
  | 39 => 0x3F4B1934#32
  | 40 => 0x3F708FB2#32
  | 41 => 0x3E5DA259#32
  | 42 => 0xBF3504F3#32
  | 43 => 0xBF79EE89#32
  | 44 => 0xBEAF1D44#32
  | 45 => 0x3F1BD7CA#32
  | 46 => 0x3F7F069E#32
  | 47 => 0x3EEC6A50#32
  | 48 => 0xBF000000#32
  | 49 => 0xBF7FC1A0#32
  | 50 => 0xBF12D5E8#32
  | 51 => 0x3EC3EF15#32
  | 52 => 0x3F7C1C5C#32
  | 53 => 0x3F2CF37B#32
  | 54 => 0xBE8483EE#32
  | 55 => 0xBF7426CB#32
  | 56 => 0xBF441B7D#32
  | 57 => 0x3E05A8A8#32
  | 58 => 0x3F6803CA#32
  | 59 => 0x3F57E880#32
  | 60 => 0x248D3132#32
  | 61 => 0xBF57E880#32
  | 62 => 0xBF6803CA#32
  | 63 => 0xBE05A8A8#32
  | 64 => 0x3F441B7D#32
  | 65 => 0x3F7426CB#32
  | 66 => 0x3E8483EE#32
  | 67 => 0xBF2CF37B#32
  | 68 => 0xBF7C1C5C#32
  | 69 => 0xBEC3EF15#32
  | 70 => 0x3F12D5E8#32
  | 71 => 0x3F7FC1A0#32
  | 72 => 0x3F000000#32
  | 73 => 0xBEEC6A50#32
  | 74 => 0xBF7F069E#32
  | 75 => 0xBF1BD7CA#32
  | 76 => 0x3EAF1D44#32
  | 77 => 0x3F79EE89#32
  | 78 => 0x3F3504F3#32
  | 79 => 0xBE5DA259#32
  | 80 => 0xBF708FB2#32
  | 81 => 0xBF4B1934#32
  | 82 => 0x3DB27EB6#32
  | 83 => 0x3F631324#32
  | 84 => 0x3F5DB3D7#32
  | 85 => 0x3D32AA3E#32
  | 86 => 0xBF51B3F3#32
  | 87 => 0xBF6C835E#32
  | 88 => 0xBE31D0D4#32
  | 89 => 0x3F3CBE35#32
  | 90 => 0x3F7746EA#32
  | 91 => 0x3E99F61C#32
  | 92 => 0xBF248DBB#32
  | 93 => 0xBF7DCF55#32
  | 94 => 0xBED8616C#32
  | 95 => 0x3F098C78#32
  | 96 => 0x3F800000#32
  | 97 => 0x3F04CE53#32
  | 98 => 0xBEEC6A50#32
  | 99 => 0xBF7F73AF#32
  | 100 => 0xBF12D5E8#32
  | 101 => 0x3ECE34D0#32
  | 102 => 0x3F7DCF55#32
  | 103 => 0x3F203C85#32
  | 104 => 0xBEAF1D44#32
  | 105 => 0xBF7B14BE#32
  | 106 => 0xBF2CF37B#32
  | 107 => 0x3E8F45C0#32
  | 108 => 0x3F7746EA#32
  | 109 => 0x3F38ECD8#32
  | 110 => 0xBE5DA259#32
  | 111 => 0xBF726A03#32
  | 112 => 0xBF441B7D#32
  | 113 => 0x3E1BC63C#32
  | 114 => 0x3F6C835E#32
  | 115 => 0x3F4E7327#32
  | 116 => 0xBDB27EB6#32
  | 117 => 0xBF659974#32
  | 118 => 0xBF57E880#32
  | 119 => 0x3CB2B521#32
  | 120 => 0x3F5DB3D7#32
  | 121 => 0x3F60712A#32
  | 122 => 0x3D32AA3E#32
  | 123 => 0xBF54DB31#32
  | 124 => 0xBF6803CA#32
  | 125 => 0xBDDEF599#32
  | 126 => 0x3F4B1934#32
  | 127 => 0x3F6E9811#32
  | _ => 0#32

noncomputable abbrev lit0t0_106 (i : Nat) : BitVec 32 := match i % 128 with
  | 0 => 0x3E31D0D4#32
  | 1 => 0xBF407893#32
  | 2 => 0xBF7426CB#32
  | 3 => 0xBE7363EE#32
  | 4 => 0x3F3504F3#32
  | 5 => 0x3F78A9E0#32
  | 6 => 0x3E99F61C#32
  | 7 => 0xBF28CAE3#32
  | 8 => 0xBF7C1C5C#32
  | 9 => 0xBEB9917B#32
  | 10 => 0x3F1BD7CA#32
  | 11 => 0x3F7E7A7A#32
  | 12 => 0x3ED8616C#32
  | 13 => 0xBF0E39DA#32
  | 14 => 0xBF7FC1A0#32
  | 15 => 0xBEF64429#32
  | 16 => 0x3F000000#32
  | 17 => 0x3F7FF067#32
  | 18 => 0x3F098C78#32
  | 19 => 0xBEE273AA#32
  | 20 => 0xBF7F069E#32
  | 21 => 0xBF176012#32
  | 22 => 0x3EC3EF15#32
  | 23 => 0x3F7D0543#32
  | 24 => 0x3F248DBB#32
  | 25 => 0xBEA493B7#32
  | 26 => 0xBF79EE89#32
  | 27 => 0xBF310700#32
  | 28 => 0x3E8483EE#32
  | 29 => 0x3F75C5D4#32
  | 30 => 0x3F3CBE35#32
  | 31 => 0xBE47C5C2#32
  | 32 => 0xBF708FB2#32
  | 33 => 0xBF47A682#32
  | 34 => 0x3E05A8A8#32
  | 35 => 0x3F6A51DA#32
  | 36 => 0x3F51B3F3#32
  | 37 => 0xBD85F213#32
  | 38 => 0xBF631324#32
  | 39 => 0xBF5ADB81#32
  | 40 => 0xA553C9CA#32
  | 41 => 0x3F5ADB81#32
  | 42 => 0x3F631324#32
  | 43 => 0x3D85F213#32
  | 44 => 0xBF51B3F3#32
  | 45 => 0xBF6A51DA#32
  | 46 => 0xBE05A8A8#32
  | 47 => 0x3F47A682#32
  | 48 => 0x3F708FB2#32
  | 49 => 0x3E47C5C2#32
  | 50 => 0xBF3CBE35#32
  | 51 => 0xBF75C5D4#32
  | 52 => 0xBE8483EE#32
  | 53 => 0x3F310700#32
  | 54 => 0x3F79EE89#32
  | 55 => 0x3EA493B7#32
  | 56 => 0xBF248DBB#32
  | 57 => 0xBF7D0543#32
  | 58 => 0xBEC3EF15#32
  | 59 => 0x3F176012#32
  | 60 => 0x3F7F069E#32
  | 61 => 0x3EE273AA#32
  | 62 => 0xBF098C78#32
  | 63 => 0xBF7FF067#32
  | 64 => 0xBF000000#32
  | 65 => 0x3EF64429#32
  | 66 => 0x3F7FC1A0#32
  | 67 => 0x3F0E39DA#32
  | 68 => 0xBED8616C#32
  | 69 => 0xBF7E7A7A#32
  | 70 => 0xBF1BD7CA#32
  | 71 => 0x3EB9917B#32
  | 72 => 0x3F7C1C5C#32
  | 73 => 0x3F28CAE3#32
  | 74 => 0xBE99F61C#32
  | 75 => 0xBF78A9E0#32
  | 76 => 0xBF3504F3#32
  | 77 => 0x3E7363EE#32
  | 78 => 0x3F7426CB#32
  | 79 => 0x3F407893#32
  | 80 => 0xBE31D0D4#32
  | 81 => 0xBF6E9811#32
  | 82 => 0xBF4B1934#32
  | 83 => 0x3DDEF599#32
  | 84 => 0x3F6803CA#32
  | 85 => 0x3F54DB31#32
  | 86 => 0xBD32AA3E#32
  | 87 => 0xBF60712A#32
  | 88 => 0xBF5DB3D7#32
  | 89 => 0xBCB2B521#32
  | 90 => 0x3F57E880#32
  | 91 => 0x3F659974#32
  | 92 => 0x3DB27EB6#32
  | 93 => 0xBF4E7327#32
  | 94 => 0xBF6C835E#32
  | 95 => 0xBE1BC63C#32
  | 96 => 0x3F441B7D#32
  | 97 => 0x3F726A03#32
  | 98 => 0x3E5DA259#32
  | 99 => 0xBF38ECD8#32
  | 100 => 0xBF7746EA#32
  | 101 => 0xBE8F45C0#32
  | 102 => 0x3F2CF37B#32
  | 103 => 0x3F7B14BE#32
  | 104 => 0x3EAF1D44#32
  | 105 => 0xBF203C85#32
  | 106 => 0xBF7DCF55#32
  | 107 => 0xBECE34D0#32
  | 108 => 0x3F12D5E8#32
  | 109 => 0x3F7F73AF#32
  | 110 => 0x3EEC6A50#32
  | 111 => 0xBF04CE53#32
  | 112 => 0xBF800000#32
  | 113 => 0xBF04CE53#32
  | 114 => 0x3EEC6A50#32
  | 115 => 0x3F7F73AF#32
  | 116 => 0x3F12D5E8#32
  | 117 => 0xBECE34D0#32
  | 118 => 0xBF7DCF55#32
  | 119 => 0xBF203C85#32
  | 120 => 0x3EAF1D44#32
  | 121 => 0x3F7B14BE#32
  | 122 => 0x3F2CF37B#32
  | 123 => 0xBE8F45C0#32
  | 124 => 0xBF7746EA#32
  | 125 => 0xBF38ECD8#32
  | 126 => 0x3E5DA259#32
  | 127 => 0x3F726A03#32
  | _ => 0#32

noncomputable abbrev lit0t0_107 (i : Nat) : BitVec 32 := match i % 128 with
  | 0 => 0x3F441B7D#32
  | 1 => 0xBE1BC63C#32
  | 2 => 0xBF6C835E#32
  | 3 => 0xBF4E7327#32
  | 4 => 0x3DB27EB6#32
  | 5 => 0x3F659974#32
  | 6 => 0x3F57E880#32
  | 7 => 0xBCB2B521#32
  | 8 => 0xBF5DB3D7#32
  | 9 => 0xBF60712A#32
  | 10 => 0xBD32AA3E#32
  | 11 => 0x3F54DB31#32
  | 12 => 0x3F6803CA#32
  | 13 => 0x3DDEF599#32
  | 14 => 0xBF4B1934#32
  | 15 => 0xBF6E9811#32
  | 16 => 0xBE31D0D4#32
  | 17 => 0x3F407893#32
  | 18 => 0x3F7426CB#32
  | 19 => 0x3E7363EE#32
  | 20 => 0xBF3504F3#32
  | 21 => 0xBF78A9E0#32
  | 22 => 0xBE99F61C#32
  | 23 => 0x3F28CAE3#32
  | 24 => 0x3F7C1C5C#32
  | 25 => 0x3EB9917B#32
  | 26 => 0xBF1BD7CA#32
  | 27 => 0xBF7E7A7A#32
  | 28 => 0xBED8616C#32
  | 29 => 0x3F0E39DA#32
  | 30 => 0x3F7FC1A0#32
  | 31 => 0x3EF64429#32
  | 32 => 0xBF000000#32
  | 33 => 0xBF7FF067#32
  | 34 => 0xBF098C78#32
  | 35 => 0x3EE273AA#32
  | 36 => 0x3F7F069E#32
  | 37 => 0x3F176012#32
  | 38 => 0xBEC3EF15#32
  | 39 => 0xBF7D0543#32
  | 40 => 0xBF248DBB#32
  | 41 => 0x3EA493B7#32
  | 42 => 0x3F79EE89#32
  | 43 => 0x3F310700#32
  | 44 => 0xBE8483EE#32
  | 45 => 0xBF75C5D4#32
  | 46 => 0xBF3CBE35#32
  | 47 => 0x3E47C5C2#32
  | 48 => 0x3F708FB2#32
  | 49 => 0x3F47A682#32
  | 50 => 0xBE05A8A8#32
  | 51 => 0xBF6A51DA#32
  | 52 => 0xBF51B3F3#32
  | 53 => 0x3D85F213#32
  | 54 => 0x3F631324#32
  | 55 => 0x3F5ADB81#32
  | 56 => 0x248D3132#32
  | 57 => 0xBF5ADB81#32
  | 58 => 0xBF631324#32
  | 59 => 0xBD85F213#32
  | 60 => 0x3F51B3F3#32
  | 61 => 0x3F6A51DA#32
  | 62 => 0x3E05A8A8#32
  | 63 => 0xBF47A682#32
  | 64 => 0xBF708FB2#32
  | 65 => 0xBE47C5C2#32
  | 66 => 0x3F3CBE35#32
  | 67 => 0x3F75C5D4#32
  | 68 => 0x3E8483EE#32
  | 69 => 0xBF310700#32
  | 70 => 0xBF79EE89#32
  | 71 => 0xBEA493B7#32
  | 72 => 0x3F248DBB#32
  | 73 => 0x3F7D0543#32
  | 74 => 0x3EC3EF15#32
  | 75 => 0xBF176012#32
  | 76 => 0xBF7F069E#32
  | 77 => 0xBEE273AA#32
  | 78 => 0x3F098C78#32
  | 79 => 0x3F7FF067#32
  | 80 => 0x3F000000#32
  | 81 => 0xBEF64429#32
  | 82 => 0xBF7FC1A0#32
  | 83 => 0xBF0E39DA#32
  | 84 => 0x3ED8616C#32
  | 85 => 0x3F7E7A7A#32
  | 86 => 0x3F1BD7CA#32
  | 87 => 0xBEB9917B#32
  | 88 => 0xBF7C1C5C#32
  | 89 => 0xBF28CAE3#32
  | 90 => 0x3E99F61C#32
  | 91 => 0x3F78A9E0#32
  | 92 => 0x3F3504F3#32
  | 93 => 0xBE7363EE#32
  | 94 => 0xBF7426CB#32
  | 95 => 0xBF407893#32
  | 96 => 0x3E31D0D4#32
  | 97 => 0x3F6E9811#32
  | 98 => 0x3F4B1934#32
  | 99 => 0xBDDEF599#32
  | 100 => 0xBF6803CA#32
  | 101 => 0xBF54DB31#32
  | 102 => 0x3D32AA3E#32
  | 103 => 0x3F60712A#32
  | 104 => 0x3F5DB3D7#32
  | 105 => 0x3CB2B521#32
  | 106 => 0xBF57E880#32
  | 107 => 0xBF659974#32
  | 108 => 0xBDB27EB6#32
  | 109 => 0x3F4E7327#32
  | 110 => 0x3F6C835E#32
  | 111 => 0x3E1BC63C#32
  | 112 => 0xBF441B7D#32
  | 113 => 0xBF726A03#32
  | 114 => 0xBE5DA259#32
  | 115 => 0x3F38ECD8#32
  | 116 => 0x3F7746EA#32
  | 117 => 0x3E8F45C0#32
  | 118 => 0xBF2CF37B#32
  | 119 => 0xBF7B14BE#32
  | 120 => 0xBEAF1D44#32
  | 121 => 0x3F203C85#32
  | 122 => 0x3F7DCF55#32
  | 123 => 0x3ECE34D0#32
  | 124 => 0xBF12D5E8#32
  | 125 => 0xBF7F73AF#32
  | 126 => 0xBEEC6A50#32
  | 127 => 0x3F04CE53#32
  | _ => 0#32

noncomputable abbrev lit0t0_108 (i : Nat) : BitVec 32 := match i % 128 with
  | 0 => 0x3F800000#32
  | 1 => 0x3F000000#32
  | 2 => 0xBF000000#32
  | 3 => 0xBF800000#32
  | 4 => 0xBF000000#32
  | 5 => 0x3F000000#32
  | 6 => 0x3F800000#32
  | 7 => 0x3F000000#32
  | 8 => 0xBF000000#32
  | 9 => 0xBF800000#32
  | 10 => 0xBF000000#32
  | 11 => 0x3F000000#32
  | 12 => 0x3F800000#32
  | 13 => 0x3F000000#32
  | 14 => 0xBF000000#32
  | 15 => 0xBF800000#32
  | 16 => 0xBF000000#32
  | 17 => 0x3F000000#32
  | 18 => 0x3F800000#32
  | 19 => 0x3F000000#32
  | 20 => 0xBF000000#32
  | 21 => 0xBF800000#32
  | 22 => 0xBF000000#32
  | 23 => 0x3F000000#32
  | 24 => 0x3F800000#32
  | 25 => 0x3F000000#32
  | 26 => 0xBF000000#32
  | 27 => 0xBF800000#32
  | 28 => 0xBF000000#32
  | 29 => 0x3F000000#32
  | 30 => 0x3F800000#32
  | 31 => 0x3F000000#32
  | 32 => 0xBF000000#32
  | 33 => 0xBF800000#32
  | 34 => 0xBF000000#32
  | 35 => 0x3F000000#32
  | 36 => 0x3F800000#32
  | 37 => 0x3F000000#32
  | 38 => 0xBF000000#32
  | 39 => 0xBF800000#32
  | 40 => 0xBF000000#32
  | 41 => 0x3F000000#32
  | 42 => 0x3F800000#32
  | 43 => 0x3F000000#32
  | 44 => 0xBF000000#32
  | 45 => 0xBF800000#32
  | 46 => 0xBF000000#32
  | 47 => 0x3F000000#32
  | 48 => 0x3F800000#32
  | 49 => 0x3F000000#32
  | 50 => 0xBF000000#32
  | 51 => 0xBF800000#32
  | 52 => 0xBF000000#32
  | 53 => 0x3F000000#32
  | 54 => 0x3F800000#32
  | 55 => 0x3F000000#32
  | 56 => 0xBF000000#32
  | 57 => 0xBF800000#32
  | 58 => 0xBF000000#32
  | 59 => 0x3F000000#32
  | 60 => 0x3F800000#32
  | 61 => 0x3F000000#32
  | 62 => 0xBF000000#32
  | 63 => 0xBF800000#32
  | 64 => 0xBF000000#32
  | 65 => 0x3F000000#32
  | 66 => 0x3F800000#32
  | 67 => 0x3F000000#32
  | 68 => 0xBF000000#32
  | 69 => 0xBF800000#32
  | 70 => 0xBF000000#32
  | 71 => 0x3F000000#32
  | 72 => 0x3F800000#32
  | 73 => 0x3F000000#32
  | 74 => 0xBF000000#32
  | 75 => 0xBF800000#32
  | 76 => 0xBF000000#32
  | 77 => 0x3F000000#32
  | 78 => 0x3F800000#32
  | 79 => 0x3F000000#32
  | 80 => 0xBF000000#32
  | 81 => 0xBF800000#32
  | 82 => 0xBF000000#32
  | 83 => 0x3F000000#32
  | 84 => 0x3F800000#32
  | 85 => 0x3F000000#32
  | 86 => 0xBF000000#32
  | 87 => 0xBF800000#32
  | 88 => 0xBF000000#32
  | 89 => 0x3F000000#32
  | 90 => 0x3F800000#32
  | 91 => 0x3F000000#32
  | 92 => 0xBF000000#32
  | 93 => 0xBF800000#32
  | 94 => 0xBF000000#32
  | 95 => 0x3F000000#32
  | 96 => 0x3F800000#32
  | 97 => 0x3F000000#32
  | 98 => 0xBF000000#32
  | 99 => 0xBF800000#32
  | 100 => 0xBF000000#32
  | 101 => 0x3F000000#32
  | 102 => 0x3F800000#32
  | 103 => 0x3F000000#32
  | 104 => 0xBF000000#32
  | 105 => 0xBF800000#32
  | 106 => 0xBF000000#32
  | 107 => 0x3F000000#32
  | 108 => 0x3F800000#32
  | 109 => 0x3F000000#32
  | 110 => 0xBF000000#32
  | 111 => 0xBF800000#32
  | 112 => 0xBF000000#32
  | 113 => 0x3F000000#32
  | 114 => 0x3F800000#32
  | 115 => 0x3F000000#32
  | 116 => 0xBF000000#32
  | 117 => 0xBF800000#32
  | 118 => 0xBF000000#32
  | 119 => 0x3F000000#32
  | 120 => 0x3F800000#32
  | 121 => 0x3F000000#32
  | 122 => 0xBF000000#32
  | 123 => 0xBF800000#32
  | 124 => 0xBF000000#32
  | 125 => 0x3F000000#32
  | 126 => 0x3F800000#32
  | 127 => 0x3F000000#32
  | _ => 0#32

noncomputable abbrev lit0t0_109 (i : Nat) : BitVec 32 := match i % 128 with
  | 0 => 0xBF000000#32
  | 1 => 0xBF800000#32
  | 2 => 0xBF000000#32
  | 3 => 0x3F000000#32
  | 4 => 0x3F800000#32
  | 5 => 0x3F000000#32
  | 6 => 0xBF000000#32
  | 7 => 0xBF800000#32
  | 8 => 0xBF000000#32
  | 9 => 0x3F000000#32
  | 10 => 0x3F800000#32
  | 11 => 0x3F000000#32
  | 12 => 0xBF000000#32
  | 13 => 0xBF800000#32
  | 14 => 0xBF000000#32
  | 15 => 0x3F000000#32
  | 16 => 0x3F800000#32
  | 17 => 0x3F000000#32
  | 18 => 0xBF000000#32
  | 19 => 0xBF800000#32
  | 20 => 0xBF000000#32
  | 21 => 0x3F000000#32
  | 22 => 0x3F800000#32
  | 23 => 0x3F000000#32
  | 24 => 0xBF000000#32
  | 25 => 0xBF800000#32
  | 26 => 0xBF000000#32
  | 27 => 0x3F000000#32
  | 28 => 0x3F800000#32
  | 29 => 0x3F000000#32
  | 30 => 0xBF000000#32
  | 31 => 0xBF800000#32
  | 32 => 0xBF000000#32
  | 33 => 0x3F000000#32
  | 34 => 0x3F800000#32
  | 35 => 0x3F000000#32
  | 36 => 0xBF000000#32
  | 37 => 0xBF800000#32
  | 38 => 0xBF000000#32
  | 39 => 0x3F000000#32
  | 40 => 0x3F800000#32
  | 41 => 0x3F000000#32
  | 42 => 0xBF000000#32
  | 43 => 0xBF800000#32
  | 44 => 0xBF000000#32
  | 45 => 0x3F000000#32
  | 46 => 0x3F800000#32
  | 47 => 0x3F000000#32
  | 48 => 0xBF000000#32
  | 49 => 0xBF800000#32
  | 50 => 0xBF000000#32
  | 51 => 0x3F000000#32
  | 52 => 0x3F800000#32
  | 53 => 0x3F000000#32
  | 54 => 0xBF000000#32
  | 55 => 0xBF800000#32
  | 56 => 0xBF000000#32
  | 57 => 0x3F000000#32
  | 58 => 0x3F800000#32
  | 59 => 0x3F000000#32
  | 60 => 0xBF000000#32
  | 61 => 0xBF800000#32
  | 62 => 0xBF000000#32
  | 63 => 0x3F000000#32
  | 64 => 0x3F800000#32
  | 65 => 0x3F000000#32
  | 66 => 0xBF000000#32
  | 67 => 0xBF800000#32
  | 68 => 0xBF000000#32
  | 69 => 0x3F000000#32
  | 70 => 0x3F800000#32
  | 71 => 0x3F000000#32
  | 72 => 0xBF000000#32
  | 73 => 0xBF800000#32
  | 74 => 0xBF000000#32
  | 75 => 0x3F000000#32
  | 76 => 0x3F800000#32
  | 77 => 0x3F000000#32
  | 78 => 0xBF000000#32
  | 79 => 0xBF800000#32
  | 80 => 0xBF000000#32
  | 81 => 0x3F000000#32
  | 82 => 0x3F800000#32
  | 83 => 0x3F000000#32
  | 84 => 0xBF000000#32
  | 85 => 0xBF800000#32
  | 86 => 0xBF000000#32
  | 87 => 0x3F000000#32
  | 88 => 0x3F800000#32
  | 89 => 0x3F000000#32
  | 90 => 0xBF000000#32
  | 91 => 0xBF800000#32
  | 92 => 0xBF000000#32
  | 93 => 0x3F000000#32
  | 94 => 0x3F800000#32
  | 95 => 0x3F000000#32
  | 96 => 0xBF000000#32
  | 97 => 0xBF800000#32
  | 98 => 0xBF000000#32
  | 99 => 0x3F000000#32
  | 100 => 0x3F800000#32
  | 101 => 0x3F000000#32
  | 102 => 0xBF000000#32
  | 103 => 0xBF800000#32
  | 104 => 0xBF000000#32
  | 105 => 0x3F000000#32
  | 106 => 0x3F800000#32
  | 107 => 0x3F000000#32
  | 108 => 0xBF000000#32
  | 109 => 0xBF800000#32
  | 110 => 0xBF000000#32
  | 111 => 0x3F000000#32
  | 112 => 0x3F800000#32
  | 113 => 0x3F000000#32
  | 114 => 0xBF000000#32
  | 115 => 0xBF800000#32
  | 116 => 0xBF000000#32
  | 117 => 0x3F000000#32
  | 118 => 0x3F800000#32
  | 119 => 0x3F000000#32
  | 120 => 0xBF000000#32
  | 121 => 0xBF800000#32
  | 122 => 0xBF000000#32
  | 123 => 0x3F000000#32
  | 124 => 0x3F800000#32
  | 125 => 0x3F000000#32
  | 126 => 0xBF000000#32
  | 127 => 0xBF800000#32
  | _ => 0#32

noncomputable abbrev lit0t0_110 (i : Nat) : BitVec 32 := match i % 128 with
  | 0 => 0xBF000000#32
  | 1 => 0x3F000000#32
  | 2 => 0x3F800000#32
  | 3 => 0x3F000000#32
  | 4 => 0xBF000000#32
  | 5 => 0xBF800000#32
  | 6 => 0xBF000000#32
  | 7 => 0x3F000000#32
  | 8 => 0x3F800000#32
  | 9 => 0x3F000000#32
  | 10 => 0xBF000000#32
  | 11 => 0xBF800000#32
  | 12 => 0xBF000000#32
  | 13 => 0x3F000000#32
  | 14 => 0x3F800000#32
  | 15 => 0x3F000000#32
  | 16 => 0xBF000000#32
  | 17 => 0xBF800000#32
  | 18 => 0xBF000000#32
  | 19 => 0x3F000000#32
  | 20 => 0x3F800000#32
  | 21 => 0x3F000000#32
  | 22 => 0xBF000000#32
  | 23 => 0xBF800000#32
  | 24 => 0xBF000000#32
  | 25 => 0x3F000000#32
  | 26 => 0x3F800000#32
  | 27 => 0x3F000000#32
  | 28 => 0xBF000000#32
  | 29 => 0xBF800000#32
  | 30 => 0xBF000000#32
  | 31 => 0x3F000000#32
  | 32 => 0x3F800000#32
  | 33 => 0x3EF64429#32
  | 34 => 0xBF098C78#32
  | 35 => 0xBF7F73AF#32
  | 36 => 0xBED8616C#32
  | 37 => 0x3F176012#32
  | 38 => 0x3F7DCF55#32
  | 39 => 0x3EB9917B#32
  | 40 => 0xBF248DBB#32
  | 41 => 0xBF7B14BE#32
  | 42 => 0xBE99F61C#32
  | 43 => 0x3F310700#32
  | 44 => 0x3F7746EA#32
  | 45 => 0x3E7363EE#32
  | 46 => 0xBF3CBE35#32
  | 47 => 0xBF726A03#32
  | 48 => 0xBE31D0D4#32
  | 49 => 0x3F47A682#32
  | 50 => 0x3F6C835E#32
  | 51 => 0x3DDEF599#32
  | 52 => 0xBF51B3F3#32
  | 53 => 0xBF659974#32
  | 54 => 0xBD32AA3E#32
  | 55 => 0x3F5ADB81#32
  | 56 => 0x3F5DB3D7#32
  | 57 => 0xBCB2B521#32
  | 58 => 0xBF631324#32
  | 59 => 0xBF54DB31#32
  | 60 => 0x3DB27EB6#32
  | 61 => 0x3F6A51DA#32
  | 62 => 0x3F4B1934#32
  | 63 => 0xBE1BC63C#32
  | 64 => 0xBF708FB2#32
  | 65 => 0xBF407893#32
  | 66 => 0x3E5DA259#32
  | 67 => 0x3F75C5D4#32
  | 68 => 0x3F3504F3#32
  | 69 => 0xBE8F45C0#32
  | 70 => 0xBF79EE89#32
  | 71 => 0xBF28CAE3#32
  | 72 => 0x3EAF1D44#32
  | 73 => 0x3F7D0543#32
  | 74 => 0x3F1BD7CA#32
  | 75 => 0xBECE34D0#32
  | 76 => 0xBF7F069E#32
  | 77 => 0xBF0E39DA#32
  | 78 => 0x3EEC6A50#32
  | 79 => 0x3F7FF067#32
  | 80 => 0x3F000000#32
  | 81 => 0xBF04CE53#32
  | 82 => 0xBF7FC1A0#32
  | 83 => 0xBEE273AA#32
  | 84 => 0x3F12D5E8#32
  | 85 => 0x3F7E7A7A#32
  | 86 => 0x3EC3EF15#32
  | 87 => 0xBF203C85#32
  | 88 => 0xBF7C1C5C#32
  | 89 => 0xBEA493B7#32
  | 90 => 0x3F2CF37B#32
  | 91 => 0x3F78A9E0#32
  | 92 => 0x3E8483EE#32
  | 93 => 0xBF38ECD8#32
  | 94 => 0xBF7426CB#32
  | 95 => 0xBE47C5C2#32
  | 96 => 0x3F441B7D#32
  | 97 => 0x3F6E9811#32
  | 98 => 0x3E05A8A8#32
  | 99 => 0xBF4E7327#32
  | 100 => 0xBF6803CA#32
  | 101 => 0xBD85F213#32
  | 102 => 0x3F57E880#32
  | 103 => 0x3F60712A#32
  | 104 => 0x248D3132#32
  | 105 => 0xBF60712A#32
  | 106 => 0xBF57E880#32
  | 107 => 0x3D85F213#32
  | 108 => 0x3F6803CA#32
  | 109 => 0x3F4E7327#32
  | 110 => 0xBE05A8A8#32
  | 111 => 0xBF6E9811#32
  | 112 => 0xBF441B7D#32
  | 113 => 0x3E47C5C2#32
  | 114 => 0x3F7426CB#32
  | 115 => 0x3F38ECD8#32
  | 116 => 0xBE8483EE#32
  | 117 => 0xBF78A9E0#32
  | 118 => 0xBF2CF37B#32
  | 119 => 0x3EA493B7#32
  | 120 => 0x3F7C1C5C#32
  | 121 => 0x3F203C85#32
  | 122 => 0xBEC3EF15#32
  | 123 => 0xBF7E7A7A#32
  | 124 => 0xBF12D5E8#32
  | 125 => 0x3EE273AA#32
  | 126 => 0x3F7FC1A0#32
  | 127 => 0x3F04CE53#32
  | _ => 0#32

noncomputable abbrev lit0t0_111 (i : Nat) : BitVec 32 := match i % 128 with
  | 0 => 0xBF000000#32
  | 1 => 0xBF7FF067#32
  | 2 => 0xBEEC6A50#32
  | 3 => 0x3F0E39DA#32
  | 4 => 0x3F7F069E#32
  | 5 => 0x3ECE34D0#32
  | 6 => 0xBF1BD7CA#32
  | 7 => 0xBF7D0543#32
  | 8 => 0xBEAF1D44#32
  | 9 => 0x3F28CAE3#32
  | 10 => 0x3F79EE89#32
  | 11 => 0x3E8F45C0#32
  | 12 => 0xBF3504F3#32
  | 13 => 0xBF75C5D4#32
  | 14 => 0xBE5DA259#32
  | 15 => 0x3F407893#32
  | 16 => 0x3F708FB2#32
  | 17 => 0x3E1BC63C#32
  | 18 => 0xBF4B1934#32
  | 19 => 0xBF6A51DA#32
  | 20 => 0xBDB27EB6#32
  | 21 => 0x3F54DB31#32
  | 22 => 0x3F631324#32
  | 23 => 0x3CB2B521#32
  | 24 => 0xBF5DB3D7#32
  | 25 => 0xBF5ADB81#32
  | 26 => 0x3D32AA3E#32
  | 27 => 0x3F659974#32
  | 28 => 0x3F51B3F3#32
  | 29 => 0xBDDEF599#32
  | 30 => 0xBF6C835E#32
  | 31 => 0xBF47A682#32
  | 32 => 0x3E31D0D4#32
  | 33 => 0x3F726A03#32
  | 34 => 0x3F3CBE35#32
  | 35 => 0xBE7363EE#32
  | 36 => 0xBF7746EA#32
  | 37 => 0xBF310700#32
  | 38 => 0x3E99F61C#32
  | 39 => 0x3F7B14BE#32
  | 40 => 0x3F248DBB#32
  | 41 => 0xBEB9917B#32
  | 42 => 0xBF7DCF55#32
  | 43 => 0xBF176012#32
  | 44 => 0x3ED8616C#32
  | 45 => 0x3F7F73AF#32
  | 46 => 0x3F098C78#32
  | 47 => 0xBEF64429#32
  | 48 => 0xBF800000#32
  | 49 => 0xBEF64429#32
  | 50 => 0x3F098C78#32
  | 51 => 0x3F7F73AF#32
  | 52 => 0x3ED8616C#32
  | 53 => 0xBF176012#32
  | 54 => 0xBF7DCF55#32
  | 55 => 0xBEB9917B#32
  | 56 => 0x3F248DBB#32
  | 57 => 0x3F7B14BE#32
  | 58 => 0x3E99F61C#32
  | 59 => 0xBF310700#32
  | 60 => 0xBF7746EA#32
  | 61 => 0xBE7363EE#32
  | 62 => 0x3F3CBE35#32
  | 63 => 0x3F726A03#32
  | 64 => 0x3E31D0D4#32
  | 65 => 0xBF47A682#32
  | 66 => 0xBF6C835E#32
  | 67 => 0xBDDEF599#32
  | 68 => 0x3F51B3F3#32
  | 69 => 0x3F659974#32
  | 70 => 0x3D32AA3E#32
  | 71 => 0xBF5ADB81#32
  | 72 => 0xBF5DB3D7#32
  | 73 => 0x3CB2B521#32
  | 74 => 0x3F631324#32
  | 75 => 0x3F54DB31#32
  | 76 => 0xBDB27EB6#32
  | 77 => 0xBF6A51DA#32
  | 78 => 0xBF4B1934#32
  | 79 => 0x3E1BC63C#32
  | 80 => 0x3F708FB2#32
  | 81 => 0x3F407893#32
  | 82 => 0xBE5DA259#32
  | 83 => 0xBF75C5D4#32
  | 84 => 0xBF3504F3#32
  | 85 => 0x3E8F45C0#32
  | 86 => 0x3F79EE89#32
  | 87 => 0x3F28CAE3#32
  | 88 => 0xBEAF1D44#32
  | 89 => 0xBF7D0543#32
  | 90 => 0xBF1BD7CA#32
  | 91 => 0x3ECE34D0#32
  | 92 => 0x3F7F069E#32
  | 93 => 0x3F0E39DA#32
  | 94 => 0xBEEC6A50#32
  | 95 => 0xBF7FF067#32
  | 96 => 0xBF000000#32
  | 97 => 0x3F04CE53#32
  | 98 => 0x3F7FC1A0#32
  | 99 => 0x3EE273AA#32
  | 100 => 0xBF12D5E8#32
  | 101 => 0xBF7E7A7A#32
  | 102 => 0xBEC3EF15#32
  | 103 => 0x3F203C85#32
  | 104 => 0x3F7C1C5C#32
  | 105 => 0x3EA493B7#32
  | 106 => 0xBF2CF37B#32
  | 107 => 0xBF78A9E0#32
  | 108 => 0xBE8483EE#32
  | 109 => 0x3F38ECD8#32
  | 110 => 0x3F7426CB#32
  | 111 => 0x3E47C5C2#32
  | 112 => 0xBF441B7D#32
  | 113 => 0xBF6E9811#32
  | 114 => 0xBE05A8A8#32
  | 115 => 0x3F4E7327#32
  | 116 => 0x3F6803CA#32
  | 117 => 0x3D85F213#32
  | 118 => 0xBF57E880#32
  | 119 => 0xBF60712A#32
  | 120 => 0xA553C9CA#32
  | 121 => 0x3F60712A#32
  | 122 => 0x3F57E880#32
  | 123 => 0xBD85F213#32
  | 124 => 0xBF6803CA#32
  | 125 => 0xBF4E7327#32
  | 126 => 0x3E05A8A8#32
  | 127 => 0x3F6E9811#32
  | _ => 0#32

noncomputable abbrev lit0t0_112 (i : Nat) : BitVec 32 := match i % 128 with
  | 0 => 0x3F441B7D#32
  | 1 => 0xBE47C5C2#32
  | 2 => 0xBF7426CB#32
  | 3 => 0xBF38ECD8#32
  | 4 => 0x3E8483EE#32
  | 5 => 0x3F78A9E0#32
  | 6 => 0x3F2CF37B#32
  | 7 => 0xBEA493B7#32
  | 8 => 0xBF7C1C5C#32
  | 9 => 0xBF203C85#32
  | 10 => 0x3EC3EF15#32
  | 11 => 0x3F7E7A7A#32
  | 12 => 0x3F12D5E8#32
  | 13 => 0xBEE273AA#32
  | 14 => 0xBF7FC1A0#32
  | 15 => 0xBF04CE53#32
  | 16 => 0x3F000000#32
  | 17 => 0x3F7FF067#32
  | 18 => 0x3EEC6A50#32
  | 19 => 0xBF0E39DA#32
  | 20 => 0xBF7F069E#32
  | 21 => 0xBECE34D0#32
  | 22 => 0x3F1BD7CA#32
  | 23 => 0x3F7D0543#32
  | 24 => 0x3EAF1D44#32
  | 25 => 0xBF28CAE3#32
  | 26 => 0xBF79EE89#32
  | 27 => 0xBE8F45C0#32
  | 28 => 0x3F3504F3#32
  | 29 => 0x3F75C5D4#32
  | 30 => 0x3E5DA259#32
  | 31 => 0xBF407893#32
  | 32 => 0xBF708FB2#32
  | 33 => 0xBE1BC63C#32
  | 34 => 0x3F4B1934#32
  | 35 => 0x3F6A51DA#32
  | 36 => 0x3DB27EB6#32
  | 37 => 0xBF54DB31#32
  | 38 => 0xBF631324#32
  | 39 => 0xBCB2B521#32
  | 40 => 0x3F5DB3D7#32
  | 41 => 0x3F5ADB81#32
  | 42 => 0xBD32AA3E#32
  | 43 => 0xBF659974#32
  | 44 => 0xBF51B3F3#32
  | 45 => 0x3DDEF599#32
  | 46 => 0x3F6C835E#32
  | 47 => 0x3F47A682#32
  | 48 => 0xBE31D0D4#32
  | 49 => 0xBF726A03#32
  | 50 => 0xBF3CBE35#32
  | 51 => 0x3E7363EE#32
  | 52 => 0x3F7746EA#32
  | 53 => 0x3F310700#32
  | 54 => 0xBE99F61C#32
  | 55 => 0xBF7B14BE#32
  | 56 => 0xBF248DBB#32
  | 57 => 0x3EB9917B#32
  | 58 => 0x3F7DCF55#32
  | 59 => 0x3F176012#32
  | 60 => 0xBED8616C#32
  | 61 => 0xBF7F73AF#32
  | 62 => 0xBF098C78#32
  | 63 => 0x3EF64429#32
  | 64 => 0x3F800000#32
  | 65 => 0x3EEC6A50#32
  | 66 => 0xBF12D5E8#32
  | 67 => 0xBF7DCF55#32
  | 68 => 0xBEAF1D44#32
  | 69 => 0x3F2CF37B#32
  | 70 => 0x3F7746EA#32
  | 71 => 0x3E5DA259#32
  | 72 => 0xBF441B7D#32
  | 73 => 0xBF6C835E#32
  | 74 => 0xBDB27EB6#32
  | 75 => 0x3F57E880#32
  | 76 => 0x3F5DB3D7#32
  | 77 => 0xBD32AA3E#32
  | 78 => 0xBF6803CA#32
  | 79 => 0xBF4B1934#32
  | 80 => 0x3E31D0D4#32
  | 81 => 0x3F7426CB#32
  | 82 => 0x3F3504F3#32
  | 83 => 0xBE99F61C#32
  | 84 => 0xBF7C1C5C#32
  | 85 => 0xBF1BD7CA#32
  | 86 => 0x3ED8616C#32
  | 87 => 0x3F7FC1A0#32
  | 88 => 0x3F000000#32
  | 89 => 0xBF098C78#32
  | 90 => 0xBF7F069E#32
  | 91 => 0xBEC3EF15#32
  | 92 => 0x3F248DBB#32
  | 93 => 0x3F79EE89#32
  | 94 => 0x3E8483EE#32
  | 95 => 0xBF3CBE35#32
  | 96 => 0xBF708FB2#32
  | 97 => 0xBE05A8A8#32
  | 98 => 0x3F51B3F3#32
  | 99 => 0x3F631324#32
  | 100 => 0x248D3132#32
  | 101 => 0xBF631324#32
  | 102 => 0xBF51B3F3#32
  | 103 => 0x3E05A8A8#32
  | 104 => 0x3F708FB2#32
  | 105 => 0x3F3CBE35#32
  | 106 => 0xBE8483EE#32
  | 107 => 0xBF79EE89#32
  | 108 => 0xBF248DBB#32
  | 109 => 0x3EC3EF15#32
  | 110 => 0x3F7F069E#32
  | 111 => 0x3F098C78#32
  | 112 => 0xBF000000#32
  | 113 => 0xBF7FC1A0#32
  | 114 => 0xBED8616C#32
  | 115 => 0x3F1BD7CA#32
  | 116 => 0x3F7C1C5C#32
  | 117 => 0x3E99F61C#32
  | 118 => 0xBF3504F3#32
  | 119 => 0xBF7426CB#32
  | 120 => 0xBE31D0D4#32
  | 121 => 0x3F4B1934#32
  | 122 => 0x3F6803CA#32
  | 123 => 0x3D32AA3E#32
  | 124 => 0xBF5DB3D7#32
  | 125 => 0xBF57E880#32
  | 126 => 0x3DB27EB6#32
  | 127 => 0x3F6C835E#32
  | _ => 0#32

noncomputable abbrev lit0t0_113 (i : Nat) : BitVec 32 := match i % 128 with
  | 0 => 0x3F441B7D#32
  | 1 => 0xBE5DA259#32
  | 2 => 0xBF7746EA#32
  | 3 => 0xBF2CF37B#32
  | 4 => 0x3EAF1D44#32
  | 5 => 0x3F7DCF55#32
  | 6 => 0x3F12D5E8#32
  | 7 => 0xBEEC6A50#32
  | 8 => 0xBF800000#32
  | 9 => 0xBEEC6A50#32
  | 10 => 0x3F12D5E8#32
  | 11 => 0x3F7DCF55#32
  | 12 => 0x3EAF1D44#32
  | 13 => 0xBF2CF37B#32
  | 14 => 0xBF7746EA#32
  | 15 => 0xBE5DA259#32
  | 16 => 0x3F441B7D#32
  | 17 => 0x3F6C835E#32
  | 18 => 0x3DB27EB6#32
  | 19 => 0xBF57E880#32
  | 20 => 0xBF5DB3D7#32
  | 21 => 0x3D32AA3E#32
  | 22 => 0x3F6803CA#32
  | 23 => 0x3F4B1934#32
  | 24 => 0xBE31D0D4#32
  | 25 => 0xBF7426CB#32
  | 26 => 0xBF3504F3#32
  | 27 => 0x3E99F61C#32
  | 28 => 0x3F7C1C5C#32
  | 29 => 0x3F1BD7CA#32
  | 30 => 0xBED8616C#32
  | 31 => 0xBF7FC1A0#32
  | 32 => 0xBF000000#32
  | 33 => 0x3F098C78#32
  | 34 => 0x3F7F069E#32
  | 35 => 0x3EC3EF15#32
  | 36 => 0xBF248DBB#32
  | 37 => 0xBF79EE89#32
  | 38 => 0xBE8483EE#32
  | 39 => 0x3F3CBE35#32
  | 40 => 0x3F708FB2#32
  | 41 => 0x3E05A8A8#32
  | 42 => 0xBF51B3F3#32
  | 43 => 0xBF631324#32
  | 44 => 0xA553C9CA#32
  | 45 => 0x3F631324#32
  | 46 => 0x3F51B3F3#32
  | 47 => 0xBE05A8A8#32
  | 48 => 0xBF708FB2#32
  | 49 => 0xBF3CBE35#32
  | 50 => 0x3E8483EE#32
  | 51 => 0x3F79EE89#32
  | 52 => 0x3F248DBB#32
  | 53 => 0xBEC3EF15#32
  | 54 => 0xBF7F069E#32
  | 55 => 0xBF098C78#32
  | 56 => 0x3F000000#32
  | 57 => 0x3F7FC1A0#32
  | 58 => 0x3ED8616C#32
  | 59 => 0xBF1BD7CA#32
  | 60 => 0xBF7C1C5C#32
  | 61 => 0xBE99F61C#32
  | 62 => 0x3F3504F3#32
  | 63 => 0x3F7426CB#32
  | 64 => 0x3E31D0D4#32
  | 65 => 0xBF4B1934#32
  | 66 => 0xBF6803CA#32
  | 67 => 0xBD32AA3E#32
  | 68 => 0x3F5DB3D7#32
  | 69 => 0x3F57E880#32
  | 70 => 0xBDB27EB6#32
  | 71 => 0xBF6C835E#32
  | 72 => 0xBF441B7D#32
  | 73 => 0x3E5DA259#32
  | 74 => 0x3F7746EA#32
  | 75 => 0x3F2CF37B#32
  | 76 => 0xBEAF1D44#32
  | 77 => 0xBF7DCF55#32
  | 78 => 0xBF12D5E8#32
  | 79 => 0x3EEC6A50#32
  | 80 => 0x3F800000#32
  | 81 => 0x3EEC6A50#32
  | 82 => 0xBF12D5E8#32
  | 83 => 0xBF7DCF55#32
  | 84 => 0xBEAF1D44#32
  | 85 => 0x3F2CF37B#32
  | 86 => 0x3F7746EA#32
  | 87 => 0x3E5DA259#32
  | 88 => 0xBF441B7D#32
  | 89 => 0xBF6C835E#32
  | 90 => 0xBDB27EB6#32
  | 91 => 0x3F57E880#32
  | 92 => 0x3F5DB3D7#32
  | 93 => 0xBD32AA3E#32
  | 94 => 0xBF6803CA#32
  | 95 => 0xBF4B1934#32
  | 96 => 0x3E31D0D4#32
  | 97 => 0x3F7426CB#32
  | 98 => 0x3F3504F3#32
  | 99 => 0xBE99F61C#32
  | 100 => 0xBF7C1C5C#32
  | 101 => 0xBF1BD7CA#32
  | 102 => 0x3ED8616C#32
  | 103 => 0x3F7FC1A0#32
  | 104 => 0x3F000000#32
  | 105 => 0xBF098C78#32
  | 106 => 0xBF7F069E#32
  | 107 => 0xBEC3EF15#32
  | 108 => 0x3F248DBB#32
  | 109 => 0x3F79EE89#32
  | 110 => 0x3E8483EE#32
  | 111 => 0xBF3CBE35#32
  | 112 => 0xBF708FB2#32
  | 113 => 0xBE05A8A8#32
  | 114 => 0x3F51B3F3#32
  | 115 => 0x3F631324#32
  | 116 => 0x248D3132#32
  | 117 => 0xBF631324#32
  | 118 => 0xBF51B3F3#32
  | 119 => 0x3E05A8A8#32
  | 120 => 0x3F708FB2#32
  | 121 => 0x3F3CBE35#32
  | 122 => 0xBE8483EE#32
  | 123 => 0xBF79EE89#32
  | 124 => 0xBF248DBB#32
  | 125 => 0x3EC3EF15#32
  | 126 => 0x3F7F069E#32
  | 127 => 0x3F098C78#32
  | _ => 0#32

noncomputable abbrev lit0t0_114 (i : Nat) : BitVec 32 := match i % 128 with
  | 0 => 0xBF000000#32
  | 1 => 0xBF7FC1A0#32
  | 2 => 0xBED8616C#32
  | 3 => 0x3F1BD7CA#32
  | 4 => 0x3F7C1C5C#32
  | 5 => 0x3E99F61C#32
  | 6 => 0xBF3504F3#32
  | 7 => 0xBF7426CB#32
  | 8 => 0xBE31D0D4#32
  | 9 => 0x3F4B1934#32
  | 10 => 0x3F6803CA#32
  | 11 => 0x3D32AA3E#32
  | 12 => 0xBF5DB3D7#32
  | 13 => 0xBF57E880#32
  | 14 => 0x3DB27EB6#32
  | 15 => 0x3F6C835E#32
  | 16 => 0x3F441B7D#32
  | 17 => 0xBE5DA259#32
  | 18 => 0xBF7746EA#32
  | 19 => 0xBF2CF37B#32
  | 20 => 0x3EAF1D44#32
  | 21 => 0x3F7DCF55#32
  | 22 => 0x3F12D5E8#32
  | 23 => 0xBEEC6A50#32
  | 24 => 0xBF800000#32
  | 25 => 0xBEEC6A50#32
  | 26 => 0x3F12D5E8#32
  | 27 => 0x3F7DCF55#32
  | 28 => 0x3EAF1D44#32
  | 29 => 0xBF2CF37B#32
  | 30 => 0xBF7746EA#32
  | 31 => 0xBE5DA259#32
  | 32 => 0x3F441B7D#32
  | 33 => 0x3F6C835E#32
  | 34 => 0x3DB27EB6#32
  | 35 => 0xBF57E880#32
  | 36 => 0xBF5DB3D7#32
  | 37 => 0x3D32AA3E#32
  | 38 => 0x3F6803CA#32
  | 39 => 0x3F4B1934#32
  | 40 => 0xBE31D0D4#32
  | 41 => 0xBF7426CB#32
  | 42 => 0xBF3504F3#32
  | 43 => 0x3E99F61C#32
  | 44 => 0x3F7C1C5C#32
  | 45 => 0x3F1BD7CA#32
  | 46 => 0xBED8616C#32
  | 47 => 0xBF7FC1A0#32
  | 48 => 0xBF000000#32
  | 49 => 0x3F098C78#32
  | 50 => 0x3F7F069E#32
  | 51 => 0x3EC3EF15#32
  | 52 => 0xBF248DBB#32
  | 53 => 0xBF79EE89#32
  | 54 => 0xBE8483EE#32
  | 55 => 0x3F3CBE35#32
  | 56 => 0x3F708FB2#32
  | 57 => 0x3E05A8A8#32
  | 58 => 0xBF51B3F3#32
  | 59 => 0xBF631324#32
  | 60 => 0xA553C9CA#32
  | 61 => 0x3F631324#32
  | 62 => 0x3F51B3F3#32
  | 63 => 0xBE05A8A8#32
  | 64 => 0xBF708FB2#32
  | 65 => 0xBF3CBE35#32
  | 66 => 0x3E8483EE#32
  | 67 => 0x3F79EE89#32
  | 68 => 0x3F248DBB#32
  | 69 => 0xBEC3EF15#32
  | 70 => 0xBF7F069E#32
  | 71 => 0xBF098C78#32
  | 72 => 0x3F000000#32
  | 73 => 0x3F7FC1A0#32
  | 74 => 0x3ED8616C#32
  | 75 => 0xBF1BD7CA#32
  | 76 => 0xBF7C1C5C#32
  | 77 => 0xBE99F61C#32
  | 78 => 0x3F3504F3#32
  | 79 => 0x3F7426CB#32
  | 80 => 0x3E31D0D4#32
  | 81 => 0xBF4B1934#32
  | 82 => 0xBF6803CA#32
  | 83 => 0xBD32AA3E#32
  | 84 => 0x3F5DB3D7#32
  | 85 => 0x3F57E880#32
  | 86 => 0xBDB27EB6#32
  | 87 => 0xBF6C835E#32
  | 88 => 0xBF441B7D#32
  | 89 => 0x3E5DA259#32
  | 90 => 0x3F7746EA#32
  | 91 => 0x3F2CF37B#32
  | 92 => 0xBEAF1D44#32
  | 93 => 0xBF7DCF55#32
  | 94 => 0xBF12D5E8#32
  | 95 => 0x3EEC6A50#32
  | 96 => 0x3F800000#32
  | 97 => 0x3EE273AA#32
  | 98 => 0xBF1BD7CA#32
  | 99 => 0xBF7B14BE#32
  | 100 => 0xBE8483EE#32
  | 101 => 0x3F407893#32
  | 102 => 0x3F6C835E#32
  | 103 => 0x3D85F213#32
  | 104 => 0xBF5DB3D7#32
  | 105 => 0xBF54DB31#32
  | 106 => 0x3E05A8A8#32
  | 107 => 0x3F726A03#32
  | 108 => 0x3F3504F3#32
  | 109 => 0xBEA493B7#32
  | 110 => 0xBF7DCF55#32
  | 111 => 0xBF0E39DA#32
  | 112 => 0x3F000000#32
  | 113 => 0x3F7F73AF#32
  | 114 => 0x3EC3EF15#32
  | 115 => 0xBF28CAE3#32
  | 116 => 0xBF7746EA#32
  | 117 => 0xBE47C5C2#32
  | 118 => 0x3F4B1934#32
  | 119 => 0x3F659974#32
  | 120 => 0x248D3132#32
  | 121 => 0xBF659974#32
  | 122 => 0xBF4B1934#32
  | 123 => 0x3E47C5C2#32
  | 124 => 0x3F7746EA#32
  | 125 => 0x3F28CAE3#32
  | 126 => 0xBEC3EF15#32
  | 127 => 0xBF7F73AF#32
  | _ => 0#32

noncomputable abbrev lit0t0_115 (i : Nat) : BitVec 32 := match i % 128 with
  | 0 => 0xBF000000#32
  | 1 => 0x3F0E39DA#32
  | 2 => 0x3F7DCF55#32
  | 3 => 0x3EA493B7#32
  | 4 => 0xBF3504F3#32
  | 5 => 0xBF726A03#32
  | 6 => 0xBE05A8A8#32
  | 7 => 0x3F54DB31#32
  | 8 => 0x3F5DB3D7#32
  | 9 => 0xBD85F213#32
  | 10 => 0xBF6C835E#32
  | 11 => 0xBF407893#32
  | 12 => 0x3E8483EE#32
  | 13 => 0x3F7B14BE#32
  | 14 => 0x3F1BD7CA#32
  | 15 => 0xBEE273AA#32
  | 16 => 0xBF800000#32
  | 17 => 0xBEE273AA#32
  | 18 => 0x3F1BD7CA#32
  | 19 => 0x3F7B14BE#32
  | 20 => 0x3E8483EE#32
  | 21 => 0xBF407893#32
  | 22 => 0xBF6C835E#32
  | 23 => 0xBD85F213#32
  | 24 => 0x3F5DB3D7#32
  | 25 => 0x3F54DB31#32
  | 26 => 0xBE05A8A8#32
  | 27 => 0xBF726A03#32
  | 28 => 0xBF3504F3#32
  | 29 => 0x3EA493B7#32
  | 30 => 0x3F7DCF55#32
  | 31 => 0x3F0E39DA#32
  | 32 => 0xBF000000#32
  | 33 => 0xBF7F73AF#32
  | 34 => 0xBEC3EF15#32
  | 35 => 0x3F28CAE3#32
  | 36 => 0x3F7746EA#32
  | 37 => 0x3E47C5C2#32
  | 38 => 0xBF4B1934#32
  | 39 => 0xBF659974#32
  | 40 => 0xA553C9CA#32
  | 41 => 0x3F659974#32
  | 42 => 0x3F4B1934#32
  | 43 => 0xBE47C5C2#32
  | 44 => 0xBF7746EA#32
  | 45 => 0xBF28CAE3#32
  | 46 => 0x3EC3EF15#32
  | 47 => 0x3F7F73AF#32
  | 48 => 0x3F000000#32
  | 49 => 0xBF0E39DA#32
  | 50 => 0xBF7DCF55#32
  | 51 => 0xBEA493B7#32
  | 52 => 0x3F3504F3#32
  | 53 => 0x3F726A03#32
  | 54 => 0x3E05A8A8#32
  | 55 => 0xBF54DB31#32
  | 56 => 0xBF5DB3D7#32
  | 57 => 0x3D85F213#32
  | 58 => 0x3F6C835E#32
  | 59 => 0x3F407893#32
  | 60 => 0xBE8483EE#32
  | 61 => 0xBF7B14BE#32
  | 62 => 0xBF1BD7CA#32
  | 63 => 0x3EE273AA#32
  | 64 => 0x3F800000#32
  | 65 => 0x3EE273AA#32
  | 66 => 0xBF1BD7CA#32
  | 67 => 0xBF7B14BE#32
  | 68 => 0xBE8483EE#32
  | 69 => 0x3F407893#32
  | 70 => 0x3F6C835E#32
  | 71 => 0x3D85F213#32
  | 72 => 0xBF5DB3D7#32
  | 73 => 0xBF54DB31#32
  | 74 => 0x3E05A8A8#32
  | 75 => 0x3F726A03#32
  | 76 => 0x3F3504F3#32
  | 77 => 0xBEA493B7#32
  | 78 => 0xBF7DCF55#32
  | 79 => 0xBF0E39DA#32
  | 80 => 0x3F000000#32
  | 81 => 0x3F7F73AF#32
  | 82 => 0x3EC3EF15#32
  | 83 => 0xBF28CAE3#32
  | 84 => 0xBF7746EA#32
  | 85 => 0xBE47C5C2#32
  | 86 => 0x3F4B1934#32
  | 87 => 0x3F659974#32
  | 88 => 0x248D3132#32
  | 89 => 0xBF659974#32
  | 90 => 0xBF4B1934#32
  | 91 => 0x3E47C5C2#32
  | 92 => 0x3F7746EA#32
  | 93 => 0x3F28CAE3#32
  | 94 => 0xBEC3EF15#32
  | 95 => 0xBF7F73AF#32
  | 96 => 0xBF000000#32
  | 97 => 0x3F0E39DA#32
  | 98 => 0x3F7DCF55#32
  | 99 => 0x3EA493B7#32
  | 100 => 0xBF3504F3#32
  | 101 => 0xBF726A03#32
  | 102 => 0xBE05A8A8#32
  | 103 => 0x3F54DB31#32
  | 104 => 0x3F5DB3D7#32
  | 105 => 0xBD85F213#32
  | 106 => 0xBF6C835E#32
  | 107 => 0xBF407893#32
  | 108 => 0x3E8483EE#32
  | 109 => 0x3F7B14BE#32
  | 110 => 0x3F1BD7CA#32
  | 111 => 0xBEE273AA#32
  | 112 => 0xBF800000#32
  | 113 => 0xBEE273AA#32
  | 114 => 0x3F1BD7CA#32
  | 115 => 0x3F7B14BE#32
  | 116 => 0x3E8483EE#32
  | 117 => 0xBF407893#32
  | 118 => 0xBF6C835E#32
  | 119 => 0xBD85F213#32
  | 120 => 0x3F5DB3D7#32
  | 121 => 0x3F54DB31#32
  | 122 => 0xBE05A8A8#32
  | 123 => 0xBF726A03#32
  | 124 => 0xBF3504F3#32
  | 125 => 0x3EA493B7#32
  | 126 => 0x3F7DCF55#32
  | 127 => 0x3F0E39DA#32
  | _ => 0#32

noncomputable abbrev lit0t0_116 (i : Nat) : BitVec 32 := match i % 128 with
  | 0 => 0xBF000000#32
  | 1 => 0xBF7F73AF#32
  | 2 => 0xBEC3EF15#32
  | 3 => 0x3F28CAE3#32
  | 4 => 0x3F7746EA#32
  | 5 => 0x3E47C5C2#32
  | 6 => 0xBF4B1934#32
  | 7 => 0xBF659974#32
  | 8 => 0xA553C9CA#32
  | 9 => 0x3F659974#32
  | 10 => 0x3F4B1934#32
  | 11 => 0xBE47C5C2#32
  | 12 => 0xBF7746EA#32
  | 13 => 0xBF28CAE3#32
  | 14 => 0x3EC3EF15#32
  | 15 => 0x3F7F73AF#32
  | 16 => 0x3F000000#32
  | 17 => 0xBF0E39DA#32
  | 18 => 0xBF7DCF55#32
  | 19 => 0xBEA493B7#32
  | 20 => 0x3F3504F3#32
  | 21 => 0x3F726A03#32
  | 22 => 0x3E05A8A8#32
  | 23 => 0xBF54DB31#32
  | 24 => 0xBF5DB3D7#32
  | 25 => 0x3D85F213#32
  | 26 => 0x3F6C835E#32
  | 27 => 0x3F407893#32
  | 28 => 0xBE8483EE#32
  | 29 => 0xBF7B14BE#32
  | 30 => 0xBF1BD7CA#32
  | 31 => 0x3EE273AA#32
  | 32 => 0x3F800000#32
  | 33 => 0x3EE273AA#32
  | 34 => 0xBF1BD7CA#32
  | 35 => 0xBF7B14BE#32
  | 36 => 0xBE8483EE#32
  | 37 => 0x3F407893#32
  | 38 => 0x3F6C835E#32
  | 39 => 0x3D85F213#32
  | 40 => 0xBF5DB3D7#32
  | 41 => 0xBF54DB31#32
  | 42 => 0x3E05A8A8#32
  | 43 => 0x3F726A03#32
  | 44 => 0x3F3504F3#32
  | 45 => 0xBEA493B7#32
  | 46 => 0xBF7DCF55#32
  | 47 => 0xBF0E39DA#32
  | 48 => 0x3F000000#32
  | 49 => 0x3F7F73AF#32
  | 50 => 0x3EC3EF15#32
  | 51 => 0xBF28CAE3#32
  | 52 => 0xBF7746EA#32
  | 53 => 0xBE47C5C2#32
  | 54 => 0x3F4B1934#32
  | 55 => 0x3F659974#32
  | 56 => 0x248D3132#32
  | 57 => 0xBF659974#32
  | 58 => 0xBF4B1934#32
  | 59 => 0x3E47C5C2#32
  | 60 => 0x3F7746EA#32
  | 61 => 0x3F28CAE3#32
  | 62 => 0xBEC3EF15#32
  | 63 => 0xBF7F73AF#32
  | 64 => 0xBF000000#32
  | 65 => 0x3F0E39DA#32
  | 66 => 0x3F7DCF55#32
  | 67 => 0x3EA493B7#32
  | 68 => 0xBF3504F3#32
  | 69 => 0xBF726A03#32
  | 70 => 0xBE05A8A8#32
  | 71 => 0x3F54DB31#32
  | 72 => 0x3F5DB3D7#32
  | 73 => 0xBD85F213#32
  | 74 => 0xBF6C835E#32
  | 75 => 0xBF407893#32
  | 76 => 0x3E8483EE#32
  | 77 => 0x3F7B14BE#32
  | 78 => 0x3F1BD7CA#32
  | 79 => 0xBEE273AA#32
  | 80 => 0xBF800000#32
  | 81 => 0xBEE273AA#32
  | 82 => 0x3F1BD7CA#32
  | 83 => 0x3F7B14BE#32
  | 84 => 0x3E8483EE#32
  | 85 => 0xBF407893#32
  | 86 => 0xBF6C835E#32
  | 87 => 0xBD85F213#32
  | 88 => 0x3F5DB3D7#32
  | 89 => 0x3F54DB31#32
  | 90 => 0xBE05A8A8#32
  | 91 => 0xBF726A03#32
  | 92 => 0xBF3504F3#32
  | 93 => 0x3EA493B7#32
  | 94 => 0x3F7DCF55#32
  | 95 => 0x3F0E39DA#32
  | 96 => 0xBF000000#32
  | 97 => 0xBF7F73AF#32
  | 98 => 0xBEC3EF15#32
  | 99 => 0x3F28CAE3#32
  | 100 => 0x3F7746EA#32
  | 101 => 0x3E47C5C2#32
  | 102 => 0xBF4B1934#32
  | 103 => 0xBF659974#32
  | 104 => 0xA553C9CA#32
  | 105 => 0x3F659974#32
  | 106 => 0x3F4B1934#32
  | 107 => 0xBE47C5C2#32
  | 108 => 0xBF7746EA#32
  | 109 => 0xBF28CAE3#32
  | 110 => 0x3EC3EF15#32
  | 111 => 0x3F7F73AF#32
  | 112 => 0x3F000000#32
  | 113 => 0xBF0E39DA#32
  | 114 => 0xBF7DCF55#32
  | 115 => 0xBEA493B7#32
  | 116 => 0x3F3504F3#32
  | 117 => 0x3F726A03#32
  | 118 => 0x3E05A8A8#32
  | 119 => 0xBF54DB31#32
  | 120 => 0xBF5DB3D7#32
  | 121 => 0x3D85F213#32
  | 122 => 0x3F6C835E#32
  | 123 => 0x3F407893#32
  | 124 => 0xBE8483EE#32
  | 125 => 0xBF7B14BE#32
  | 126 => 0xBF1BD7CA#32
  | 127 => 0x3EE273AA#32
  | _ => 0#32

noncomputable abbrev lit0t0_117 (i : Nat) : BitVec 32 := match i % 128 with
  | 0 => 0x3F800000#32
  | 1 => 0x3ED8616C#32
  | 2 => 0xBF248DBB#32
  | 3 => 0xBF7746EA#32
  | 4 => 0xBE31D0D4#32
  | 5 => 0x3F51B3F3#32
  | 6 => 0x3F5DB3D7#32
  | 7 => 0xBDB27EB6#32
  | 8 => 0xBF708FB2#32
  | 9 => 0xBF3504F3#32
  | 10 => 0x3EAF1D44#32
  | 11 => 0x3F7F069E#32
  | 12 => 0x3F000000#32
  | 13 => 0xBF12D5E8#32
  | 14 => 0xBF7C1C5C#32
  | 15 => 0xBE8483EE#32
  | 16 => 0x3F441B7D#32
  | 17 => 0x3F6803CA#32
  | 18 => 0x248D3132#32
  | 19 => 0xBF6803CA#32
  | 20 => 0xBF441B7D#32
  | 21 => 0x3E8483EE#32
  | 22 => 0x3F7C1C5C#32
  | 23 => 0x3F12D5E8#32
  | 24 => 0xBF000000#32
  | 25 => 0xBF7F069E#32
  | 26 => 0xBEAF1D44#32
  | 27 => 0x3F3504F3#32
  | 28 => 0x3F708FB2#32
  | 29 => 0x3DB27EB6#32
  | 30 => 0xBF5DB3D7#32
  | 31 => 0xBF51B3F3#32
  | 32 => 0x3E31D0D4#32
  | 33 => 0x3F7746EA#32
  | 34 => 0x3F248DBB#32
  | 35 => 0xBED8616C#32
  | 36 => 0xBF800000#32
  | 37 => 0xBED8616C#32
  | 38 => 0x3F248DBB#32
  | 39 => 0x3F7746EA#32
  | 40 => 0x3E31D0D4#32
  | 41 => 0xBF51B3F3#32
  | 42 => 0xBF5DB3D7#32
  | 43 => 0x3DB27EB6#32
  | 44 => 0x3F708FB2#32
  | 45 => 0x3F3504F3#32
  | 46 => 0xBEAF1D44#32
  | 47 => 0xBF7F069E#32
  | 48 => 0xBF000000#32
  | 49 => 0x3F12D5E8#32
  | 50 => 0x3F7C1C5C#32
  | 51 => 0x3E8483EE#32
  | 52 => 0xBF441B7D#32
  | 53 => 0xBF6803CA#32
  | 54 => 0xA553C9CA#32
  | 55 => 0x3F6803CA#32
  | 56 => 0x3F441B7D#32
  | 57 => 0xBE8483EE#32
  | 58 => 0xBF7C1C5C#32
  | 59 => 0xBF12D5E8#32
  | 60 => 0x3F000000#32
  | 61 => 0x3F7F069E#32
  | 62 => 0x3EAF1D44#32
  | 63 => 0xBF3504F3#32
  | 64 => 0xBF708FB2#32
  | 65 => 0xBDB27EB6#32
  | 66 => 0x3F5DB3D7#32
  | 67 => 0x3F51B3F3#32
  | 68 => 0xBE31D0D4#32
  | 69 => 0xBF7746EA#32
  | 70 => 0xBF248DBB#32
  | 71 => 0x3ED8616C#32
  | 72 => 0x3F800000#32
  | 73 => 0x3ED8616C#32
  | 74 => 0xBF248DBB#32
  | 75 => 0xBF7746EA#32
  | 76 => 0xBE31D0D4#32
  | 77 => 0x3F51B3F3#32
  | 78 => 0x3F5DB3D7#32
  | 79 => 0xBDB27EB6#32
  | 80 => 0xBF708FB2#32
  | 81 => 0xBF3504F3#32
  | 82 => 0x3EAF1D44#32
  | 83 => 0x3F7F069E#32
  | 84 => 0x3F000000#32
  | 85 => 0xBF12D5E8#32
  | 86 => 0xBF7C1C5C#32
  | 87 => 0xBE8483EE#32
  | 88 => 0x3F441B7D#32
  | 89 => 0x3F6803CA#32
  | 90 => 0x248D3132#32
  | 91 => 0xBF6803CA#32
  | 92 => 0xBF441B7D#32
  | 93 => 0x3E8483EE#32
  | 94 => 0x3F7C1C5C#32
  | 95 => 0x3F12D5E8#32
  | 96 => 0xBF000000#32
  | 97 => 0xBF7F069E#32
  | 98 => 0xBEAF1D44#32
  | 99 => 0x3F3504F3#32
  | 100 => 0x3F708FB2#32
  | 101 => 0x3DB27EB6#32
  | 102 => 0xBF5DB3D7#32
  | 103 => 0xBF51B3F3#32
  | 104 => 0x3E31D0D4#32
  | 105 => 0x3F7746EA#32
  | 106 => 0x3F248DBB#32
  | 107 => 0xBED8616C#32
  | 108 => 0xBF800000#32
  | 109 => 0xBED8616C#32
  | 110 => 0x3F248DBB#32
  | 111 => 0x3F7746EA#32
  | 112 => 0x3E31D0D4#32
  | 113 => 0xBF51B3F3#32
  | 114 => 0xBF5DB3D7#32
  | 115 => 0x3DB27EB6#32
  | 116 => 0x3F708FB2#32
  | 117 => 0x3F3504F3#32
  | 118 => 0xBEAF1D44#32
  | 119 => 0xBF7F069E#32
  | 120 => 0xBF000000#32
  | 121 => 0x3F12D5E8#32
  | 122 => 0x3F7C1C5C#32
  | 123 => 0x3E8483EE#32
  | 124 => 0xBF441B7D#32
  | 125 => 0xBF6803CA#32
  | 126 => 0xA553C9CA#32
  | 127 => 0x3F6803CA#32
  | _ => 0#32

noncomputable abbrev lit0t0_118 (i : Nat) : BitVec 32 := match i % 128 with
  | 0 => 0x3F441B7D#32
  | 1 => 0xBE8483EE#32
  | 2 => 0xBF7C1C5C#32
  | 3 => 0xBF12D5E8#32
  | 4 => 0x3F000000#32
  | 5 => 0x3F7F069E#32
  | 6 => 0x3EAF1D44#32
  | 7 => 0xBF3504F3#32
  | 8 => 0xBF708FB2#32
  | 9 => 0xBDB27EB6#32
  | 10 => 0x3F5DB3D7#32
  | 11 => 0x3F51B3F3#32
  | 12 => 0xBE31D0D4#32
  | 13 => 0xBF7746EA#32
  | 14 => 0xBF248DBB#32
  | 15 => 0x3ED8616C#32
  | 16 => 0x3F800000#32
  | 17 => 0x3ED8616C#32
  | 18 => 0xBF248DBB#32
  | 19 => 0xBF7746EA#32
  | 20 => 0xBE31D0D4#32
  | 21 => 0x3F51B3F3#32
  | 22 => 0x3F5DB3D7#32
  | 23 => 0xBDB27EB6#32
  | 24 => 0xBF708FB2#32
  | 25 => 0xBF3504F3#32
  | 26 => 0x3EAF1D44#32
  | 27 => 0x3F7F069E#32
  | 28 => 0x3F000000#32
  | 29 => 0xBF12D5E8#32
  | 30 => 0xBF7C1C5C#32
  | 31 => 0xBE8483EE#32
  | 32 => 0x3F441B7D#32
  | 33 => 0x3F6803CA#32
  | 34 => 0x248D3132#32
  | 35 => 0xBF6803CA#32
  | 36 => 0xBF441B7D#32
  | 37 => 0x3E8483EE#32
  | 38 => 0x3F7C1C5C#32
  | 39 => 0x3F12D5E8#32
  | 40 => 0xBF000000#32
  | 41 => 0xBF7F069E#32
  | 42 => 0xBEAF1D44#32
  | 43 => 0x3F3504F3#32
  | 44 => 0x3F708FB2#32
  | 45 => 0x3DB27EB6#32
  | 46 => 0xBF5DB3D7#32
  | 47 => 0xBF51B3F3#32
  | 48 => 0x3E31D0D4#32
  | 49 => 0x3F7746EA#32
  | 50 => 0x3F248DBB#32
  | 51 => 0xBED8616C#32
  | 52 => 0xBF800000#32
  | 53 => 0xBED8616C#32
  | 54 => 0x3F248DBB#32
  | 55 => 0x3F7746EA#32
  | 56 => 0x3E31D0D4#32
  | 57 => 0xBF51B3F3#32
  | 58 => 0xBF5DB3D7#32
  | 59 => 0x3DB27EB6#32
  | 60 => 0x3F708FB2#32
  | 61 => 0x3F3504F3#32
  | 62 => 0xBEAF1D44#32
  | 63 => 0xBF7F069E#32
  | 64 => 0xBF000000#32
  | 65 => 0x3F12D5E8#32
  | 66 => 0x3F7C1C5C#32
  | 67 => 0x3E8483EE#32
  | 68 => 0xBF441B7D#32
  | 69 => 0xBF6803CA#32
  | 70 => 0xA553C9CA#32
  | 71 => 0x3F6803CA#32
  | 72 => 0x3F441B7D#32
  | 73 => 0xBE8483EE#32
  | 74 => 0xBF7C1C5C#32
  | 75 => 0xBF12D5E8#32
  | 76 => 0x3F000000#32
  | 77 => 0x3F7F069E#32
  | 78 => 0x3EAF1D44#32
  | 79 => 0xBF3504F3#32
  | 80 => 0xBF708FB2#32
  | 81 => 0xBDB27EB6#32
  | 82 => 0x3F5DB3D7#32
  | 83 => 0x3F51B3F3#32
  | 84 => 0xBE31D0D4#32
  | 85 => 0xBF7746EA#32
  | 86 => 0xBF248DBB#32
  | 87 => 0x3ED8616C#32
  | 88 => 0x3F800000#32
  | 89 => 0x3ED8616C#32
  | 90 => 0xBF248DBB#32
  | 91 => 0xBF7746EA#32
  | 92 => 0xBE31D0D4#32
  | 93 => 0x3F51B3F3#32
  | 94 => 0x3F5DB3D7#32
  | 95 => 0xBDB27EB6#32
  | 96 => 0xBF708FB2#32
  | 97 => 0xBF3504F3#32
  | 98 => 0x3EAF1D44#32
  | 99 => 0x3F7F069E#32
  | 100 => 0x3F000000#32
  | 101 => 0xBF12D5E8#32
  | 102 => 0xBF7C1C5C#32
  | 103 => 0xBE8483EE#32
  | 104 => 0x3F441B7D#32
  | 105 => 0x3F6803CA#32
  | 106 => 0x248D3132#32
  | 107 => 0xBF6803CA#32
  | 108 => 0xBF441B7D#32
  | 109 => 0x3E8483EE#32
  | 110 => 0x3F7C1C5C#32
  | 111 => 0x3F12D5E8#32
  | 112 => 0xBF000000#32
  | 113 => 0xBF7F069E#32
  | 114 => 0xBEAF1D44#32
  | 115 => 0x3F3504F3#32
  | 116 => 0x3F708FB2#32
  | 117 => 0x3DB27EB6#32
  | 118 => 0xBF5DB3D7#32
  | 119 => 0xBF51B3F3#32
  | 120 => 0x3E31D0D4#32
  | 121 => 0x3F7746EA#32
  | 122 => 0x3F248DBB#32
  | 123 => 0xBED8616C#32
  | 124 => 0xBF800000#32
  | 125 => 0xBED8616C#32
  | 126 => 0x3F248DBB#32
  | 127 => 0x3F7746EA#32
  | _ => 0#32

noncomputable abbrev lit0t0_119 (i : Nat) : BitVec 32 := match i % 128 with
  | 0 => 0x3E31D0D4#32
  | 1 => 0xBF51B3F3#32
  | 2 => 0xBF5DB3D7#32
  | 3 => 0x3DB27EB6#32
  | 4 => 0x3F708FB2#32
  | 5 => 0x3F3504F3#32
  | 6 => 0xBEAF1D44#32
  | 7 => 0xBF7F069E#32
  | 8 => 0xBF000000#32
  | 9 => 0x3F12D5E8#32
  | 10 => 0x3F7C1C5C#32
  | 11 => 0x3E8483EE#32
  | 12 => 0xBF441B7D#32
  | 13 => 0xBF6803CA#32
  | 14 => 0xA553C9CA#32
  | 15 => 0x3F6803CA#32
  | 16 => 0x3F441B7D#32
  | 17 => 0xBE8483EE#32
  | 18 => 0xBF7C1C5C#32
  | 19 => 0xBF12D5E8#32
  | 20 => 0x3F000000#32
  | 21 => 0x3F7F069E#32
  | 22 => 0x3EAF1D44#32
  | 23 => 0xBF3504F3#32
  | 24 => 0xBF708FB2#32
  | 25 => 0xBDB27EB6#32
  | 26 => 0x3F5DB3D7#32
  | 27 => 0x3F51B3F3#32
  | 28 => 0xBE31D0D4#32
  | 29 => 0xBF7746EA#32
  | 30 => 0xBF248DBB#32
  | 31 => 0x3ED8616C#32
  | 32 => 0x3F800000#32
  | 33 => 0x3ECE34D0#32
  | 34 => 0xBF2CF37B#32
  | 35 => 0xBF726A03#32
  | 36 => 0xBDB27EB6#32
  | 37 => 0x3F60712A#32
  | 38 => 0x3F4B1934#32
  | 39 => 0xBE7363EE#32
  | 40 => 0xBF7C1C5C#32
  | 41 => 0xBF0E39DA#32
  | 42 => 0x3F098C78#32
  | 43 => 0x3F7D0543#32
  | 44 => 0x3E8483EE#32
  | 45 => 0xBF47A682#32
  | 46 => 0xBF631324#32
  | 47 => 0x3D85F213#32
  | 48 => 0x3F708FB2#32
  | 49 => 0x3F310700#32
  | 50 => 0xBEC3EF15#32
  | 51 => 0xBF7FF067#32
  | 52 => 0xBED8616C#32
  | 53 => 0x3F28CAE3#32
  | 54 => 0x3F7426CB#32
  | 55 => 0x3DDEF599#32
  | 56 => 0xBF5DB3D7#32
  | 57 => 0xBF4E7327#32
  | 58 => 0x3E5DA259#32
  | 59 => 0x3F7B14BE#32
  | 60 => 0x3F12D5E8#32
  | 61 => 0xBF04CE53#32
  | 62 => 0xBF7DCF55#32
  | 63 => 0xBE8F45C0#32
  | 64 => 0x3F441B7D#32
  | 65 => 0x3F659974#32
  | 66 => 0xBD32AA3E#32
  | 67 => 0xBF6E9811#32
  | 68 => 0xBF3504F3#32
  | 69 => 0x3EB9917B#32
  | 70 => 0x3F7FC1A0#32
  | 71 => 0x3EE273AA#32
  | 72 => 0xBF248DBB#32
  | 73 => 0xBF75C5D4#32
  | 74 => 0xBE05A8A8#32
  | 75 => 0x3F5ADB81#32
  | 76 => 0x3F51B3F3#32
  | 77 => 0xBE47C5C2#32
  | 78 => 0xBF79EE89#32
  | 79 => 0xBF176012#32
  | 80 => 0x3F000000#32
  | 81 => 0x3F7E7A7A#32
  | 82 => 0x3E99F61C#32
  | 83 => 0xBF407893#32
  | 84 => 0xBF6803CA#32
  | 85 => 0x3CB2B521#32
  | 86 => 0x3F6C835E#32
  | 87 => 0x3F38ECD8#32
  | 88 => 0xBEAF1D44#32
  | 89 => 0xBF7F73AF#32
  | 90 => 0xBEEC6A50#32
  | 91 => 0x3F203C85#32
  | 92 => 0x3F7746EA#32
  | 93 => 0x3E1BC63C#32
  | 94 => 0xBF57E880#32
  | 95 => 0xBF54DB31#32
  | 96 => 0x3E31D0D4#32
  | 97 => 0x3F78A9E0#32
  | 98 => 0x3F1BD7CA#32
  | 99 => 0xBEF64429#32
  | 100 => 0xBF7F069E#32
  | 101 => 0xBEA493B7#32
  | 102 => 0x3F3CBE35#32
  | 103 => 0x3F6A51DA#32
  | 104 => 0x248D3132#32
  | 105 => 0xBF6A51DA#32
  | 106 => 0xBF3CBE35#32
  | 107 => 0x3EA493B7#32
  | 108 => 0x3F7F069E#32
  | 109 => 0x3EF64429#32
  | 110 => 0xBF1BD7CA#32
  | 111 => 0xBF78A9E0#32
  | 112 => 0xBE31D0D4#32
  | 113 => 0x3F54DB31#32
  | 114 => 0x3F57E880#32
  | 115 => 0xBE1BC63C#32
  | 116 => 0xBF7746EA#32
  | 117 => 0xBF203C85#32
  | 118 => 0x3EEC6A50#32
  | 119 => 0x3F7F73AF#32
  | 120 => 0x3EAF1D44#32
  | 121 => 0xBF38ECD8#32
  | 122 => 0xBF6C835E#32
  | 123 => 0xBCB2B521#32
  | 124 => 0x3F6803CA#32
  | 125 => 0x3F407893#32
  | 126 => 0xBE99F61C#32
  | 127 => 0xBF7E7A7A#32
  | _ => 0#32

noncomputable abbrev lit0t0_120 (i : Nat) : BitVec 32 := match i % 128 with
  | 0 => 0xBF000000#32
  | 1 => 0x3F176012#32
  | 2 => 0x3F79EE89#32
  | 3 => 0x3E47C5C2#32
  | 4 => 0xBF51B3F3#32
  | 5 => 0xBF5ADB81#32
  | 6 => 0x3E05A8A8#32
  | 7 => 0x3F75C5D4#32
  | 8 => 0x3F248DBB#32
  | 9 => 0xBEE273AA#32
  | 10 => 0xBF7FC1A0#32
  | 11 => 0xBEB9917B#32
  | 12 => 0x3F3504F3#32
  | 13 => 0x3F6E9811#32
  | 14 => 0x3D32AA3E#32
  | 15 => 0xBF659974#32
  | 16 => 0xBF441B7D#32
  | 17 => 0x3E8F45C0#32
  | 18 => 0x3F7DCF55#32
  | 19 => 0x3F04CE53#32
  | 20 => 0xBF12D5E8#32
  | 21 => 0xBF7B14BE#32
  | 22 => 0xBE5DA259#32
  | 23 => 0x3F4E7327#32
  | 24 => 0x3F5DB3D7#32
  | 25 => 0xBDDEF599#32
  | 26 => 0xBF7426CB#32
  | 27 => 0xBF28CAE3#32
  | 28 => 0x3ED8616C#32
  | 29 => 0x3F7FF067#32
  | 30 => 0x3EC3EF15#32
  | 31 => 0xBF310700#32
  | 32 => 0xBF708FB2#32
  | 33 => 0xBD85F213#32
  | 34 => 0x3F631324#32
  | 35 => 0x3F47A682#32
  | 36 => 0xBE8483EE#32
  | 37 => 0xBF7D0543#32
  | 38 => 0xBF098C78#32
  | 39 => 0x3F0E39DA#32
  | 40 => 0x3F7C1C5C#32
  | 41 => 0x3E7363EE#32
  | 42 => 0xBF4B1934#32
  | 43 => 0xBF60712A#32
  | 44 => 0x3DB27EB6#32
  | 45 => 0x3F726A03#32
  | 46 => 0x3F2CF37B#32
  | 47 => 0xBECE34D0#32
  | 48 => 0xBF800000#32
  | 49 => 0xBECE34D0#32
  | 50 => 0x3F2CF37B#32
  | 51 => 0x3F726A03#32
  | 52 => 0x3DB27EB6#32
  | 53 => 0xBF60712A#32
  | 54 => 0xBF4B1934#32
  | 55 => 0x3E7363EE#32
  | 56 => 0x3F7C1C5C#32
  | 57 => 0x3F0E39DA#32
  | 58 => 0xBF098C78#32
  | 59 => 0xBF7D0543#32
  | 60 => 0xBE8483EE#32
  | 61 => 0x3F47A682#32
  | 62 => 0x3F631324#32
  | 63 => 0xBD85F213#32
  | 64 => 0xBF708FB2#32
  | 65 => 0xBF310700#32
  | 66 => 0x3EC3EF15#32
  | 67 => 0x3F7FF067#32
  | 68 => 0x3ED8616C#32
  | 69 => 0xBF28CAE3#32
  | 70 => 0xBF7426CB#32
  | 71 => 0xBDDEF599#32
  | 72 => 0x3F5DB3D7#32
  | 73 => 0x3F4E7327#32
  | 74 => 0xBE5DA259#32
  | 75 => 0xBF7B14BE#32
  | 76 => 0xBF12D5E8#32
  | 77 => 0x3F04CE53#32
  | 78 => 0x3F7DCF55#32
  | 79 => 0x3E8F45C0#32
  | 80 => 0xBF441B7D#32
  | 81 => 0xBF659974#32
  | 82 => 0x3D32AA3E#32
  | 83 => 0x3F6E9811#32
  | 84 => 0x3F3504F3#32
  | 85 => 0xBEB9917B#32
  | 86 => 0xBF7FC1A0#32
  | 87 => 0xBEE273AA#32
  | 88 => 0x3F248DBB#32
  | 89 => 0x3F75C5D4#32
  | 90 => 0x3E05A8A8#32
  | 91 => 0xBF5ADB81#32
  | 92 => 0xBF51B3F3#32
  | 93 => 0x3E47C5C2#32
  | 94 => 0x3F79EE89#32
  | 95 => 0x3F176012#32
  | 96 => 0xBF000000#32
  | 97 => 0xBF7E7A7A#32
  | 98 => 0xBE99F61C#32
  | 99 => 0x3F407893#32
  | 100 => 0x3F6803CA#32
  | 101 => 0xBCB2B521#32
  | 102 => 0xBF6C835E#32
  | 103 => 0xBF38ECD8#32
  | 104 => 0x3EAF1D44#32
  | 105 => 0x3F7F73AF#32
  | 106 => 0x3EEC6A50#32
  | 107 => 0xBF203C85#32
  | 108 => 0xBF7746EA#32
  | 109 => 0xBE1BC63C#32
  | 110 => 0x3F57E880#32
  | 111 => 0x3F54DB31#32
  | 112 => 0xBE31D0D4#32
  | 113 => 0xBF78A9E0#32
  | 114 => 0xBF1BD7CA#32
  | 115 => 0x3EF64429#32
  | 116 => 0x3F7F069E#32
  | 117 => 0x3EA493B7#32
  | 118 => 0xBF3CBE35#32
  | 119 => 0xBF6A51DA#32
  | 120 => 0xA553C9CA#32
  | 121 => 0x3F6A51DA#32
  | 122 => 0x3F3CBE35#32
  | 123 => 0xBEA493B7#32
  | 124 => 0xBF7F069E#32
  | 125 => 0xBEF64429#32
  | 126 => 0x3F1BD7CA#32
  | 127 => 0x3F78A9E0#32
  | _ => 0#32

noncomputable abbrev lit0t0_121 (i : Nat) : BitVec 32 := match i % 128 with
  | 0 => 0x3E31D0D4#32
  | 1 => 0xBF54DB31#32
  | 2 => 0xBF57E880#32
  | 3 => 0x3E1BC63C#32
  | 4 => 0x3F7746EA#32
  | 5 => 0x3F203C85#32
  | 6 => 0xBEEC6A50#32
  | 7 => 0xBF7F73AF#32
  | 8 => 0xBEAF1D44#32
  | 9 => 0x3F38ECD8#32
  | 10 => 0x3F6C835E#32
  | 11 => 0x3CB2B521#32
  | 12 => 0xBF6803CA#32
  | 13 => 0xBF407893#32
  | 14 => 0x3E99F61C#32
  | 15 => 0x3F7E7A7A#32
  | 16 => 0x3F000000#32
  | 17 => 0xBF176012#32
  | 18 => 0xBF79EE89#32
  | 19 => 0xBE47C5C2#32
  | 20 => 0x3F51B3F3#32
  | 21 => 0x3F5ADB81#32
  | 22 => 0xBE05A8A8#32
  | 23 => 0xBF75C5D4#32
  | 24 => 0xBF248DBB#32
  | 25 => 0x3EE273AA#32
  | 26 => 0x3F7FC1A0#32
  | 27 => 0x3EB9917B#32
  | 28 => 0xBF3504F3#32
  | 29 => 0xBF6E9811#32
  | 30 => 0xBD32AA3E#32
  | 31 => 0x3F659974#32
  | 32 => 0x3F441B7D#32
  | 33 => 0xBE8F45C0#32
  | 34 => 0xBF7DCF55#32
  | 35 => 0xBF04CE53#32
  | 36 => 0x3F12D5E8#32
  | 37 => 0x3F7B14BE#32
  | 38 => 0x3E5DA259#32
  | 39 => 0xBF4E7327#32
  | 40 => 0xBF5DB3D7#32
  | 41 => 0x3DDEF599#32
  | 42 => 0x3F7426CB#32
  | 43 => 0x3F28CAE3#32
  | 44 => 0xBED8616C#32
  | 45 => 0xBF7FF067#32
  | 46 => 0xBEC3EF15#32
  | 47 => 0x3F310700#32
  | 48 => 0x3F708FB2#32
  | 49 => 0x3D85F213#32
  | 50 => 0xBF631324#32
  | 51 => 0xBF47A682#32
  | 52 => 0x3E8483EE#32
  | 53 => 0x3F7D0543#32
  | 54 => 0x3F098C78#32
  | 55 => 0xBF0E39DA#32
  | 56 => 0xBF7C1C5C#32
  | 57 => 0xBE7363EE#32
  | 58 => 0x3F4B1934#32
  | 59 => 0x3F60712A#32
  | 60 => 0xBDB27EB6#32
  | 61 => 0xBF726A03#32
  | 62 => 0xBF2CF37B#32
  | 63 => 0x3ECE34D0#32
  | 64 => 0x3F800000#32
  | 65 => 0x3EC3EF15#32
  | 66 => 0xBF3504F3#32
  | 67 => 0xBF6C835E#32
  | 68 => 0xA553C9CA#32
  | 69 => 0x3F6C835E#32
  | 70 => 0x3F3504F3#32
  | 71 => 0xBEC3EF15#32
  | 72 => 0xBF800000#32
  | 73 => 0xBEC3EF15#32
  | 74 => 0x3F3504F3#32
  | 75 => 0x3F6C835E#32
  | 76 => 0x248D3132#32
  | 77 => 0xBF6C835E#32
  | 78 => 0xBF3504F3#32
  | 79 => 0x3EC3EF15#32
  | 80 => 0x3F800000#32
  | 81 => 0x3EC3EF15#32
  | 82 => 0xBF3504F3#32
  | 83 => 0xBF6C835E#32
  | 84 => 0xA553C9CA#32
  | 85 => 0x3F6C835E#32
  | 86 => 0x3F3504F3#32
  | 87 => 0xBEC3EF15#32
  | 88 => 0xBF800000#32
  | 89 => 0xBEC3EF15#32
  | 90 => 0x3F3504F3#32
  | 91 => 0x3F6C835E#32
  | 92 => 0x248D3132#32
  | 93 => 0xBF6C835E#32
  | 94 => 0xBF3504F3#32
  | 95 => 0x3EC3EF15#32
  | 96 => 0x3F800000#32
  | 97 => 0x3EC3EF15#32
  | 98 => 0xBF3504F3#32
  | 99 => 0xBF6C835E#32
  | 100 => 0xA553C9CA#32
  | 101 => 0x3F6C835E#32
  | 102 => 0x3F3504F3#32
  | 103 => 0xBEC3EF15#32
  | 104 => 0xBF800000#32
  | 105 => 0xBEC3EF15#32
  | 106 => 0x3F3504F3#32
  | 107 => 0x3F6C835E#32
  | 108 => 0x248D3132#32
  | 109 => 0xBF6C835E#32
  | 110 => 0xBF3504F3#32
  | 111 => 0x3EC3EF15#32
  | 112 => 0x3F800000#32
  | 113 => 0x3EC3EF15#32
  | 114 => 0xBF3504F3#32
  | 115 => 0xBF6C835E#32
  | 116 => 0xA553C9CA#32
  | 117 => 0x3F6C835E#32
  | 118 => 0x3F3504F3#32
  | 119 => 0xBEC3EF15#32
  | 120 => 0xBF800000#32
  | 121 => 0xBEC3EF15#32
  | 122 => 0x3F3504F3#32
  | 123 => 0x3F6C835E#32
  | 124 => 0x248D3132#32
  | 125 => 0xBF6C835E#32
  | 126 => 0xBF3504F3#32
  | 127 => 0x3EC3EF15#32
  | _ => 0#32

noncomputable abbrev lit0t0_122 (i : Nat) : BitVec 32 := match i % 128 with
  | 0 => 0x3F800000#32
  | 1 => 0x3EC3EF15#32
  | 2 => 0xBF3504F3#32
  | 3 => 0xBF6C835E#32
  | 4 => 0xA553C9CA#32
  | 5 => 0x3F6C835E#32
  | 6 => 0x3F3504F3#32
  | 7 => 0xBEC3EF15#32
  | 8 => 0xBF800000#32
  | 9 => 0xBEC3EF15#32
  | 10 => 0x3F3504F3#32
  | 11 => 0x3F6C835E#32
  | 12 => 0x248D3132#32
  | 13 => 0xBF6C835E#32
  | 14 => 0xBF3504F3#32
  | 15 => 0x3EC3EF15#32
  | 16 => 0x3F800000#32
  | 17 => 0x3EC3EF15#32
  | 18 => 0xBF3504F3#32
  | 19 => 0xBF6C835E#32
  | 20 => 0xA553C9CA#32
  | 21 => 0x3F6C835E#32
  | 22 => 0x3F3504F3#32
  | 23 => 0xBEC3EF15#32
  | 24 => 0xBF800000#32
  | 25 => 0xBEC3EF15#32
  | 26 => 0x3F3504F3#32
  | 27 => 0x3F6C835E#32
  | 28 => 0x248D3132#32
  | 29 => 0xBF6C835E#32
  | 30 => 0xBF3504F3#32
  | 31 => 0x3EC3EF15#32
  | 32 => 0x3F800000#32
  | 33 => 0x3EC3EF15#32
  | 34 => 0xBF3504F3#32
  | 35 => 0xBF6C835E#32
  | 36 => 0xA553C9CA#32
  | 37 => 0x3F6C835E#32
  | 38 => 0x3F3504F3#32
  | 39 => 0xBEC3EF15#32
  | 40 => 0xBF800000#32
  | 41 => 0xBEC3EF15#32
  | 42 => 0x3F3504F3#32
  | 43 => 0x3F6C835E#32
  | 44 => 0x248D3132#32
  | 45 => 0xBF6C835E#32
  | 46 => 0xBF3504F3#32
  | 47 => 0x3EC3EF15#32
  | 48 => 0x3F800000#32
  | 49 => 0x3EC3EF15#32
  | 50 => 0xBF3504F3#32
  | 51 => 0xBF6C835E#32
  | 52 => 0xA553C9CA#32
  | 53 => 0x3F6C835E#32
  | 54 => 0x3F3504F3#32
  | 55 => 0xBEC3EF15#32
  | 56 => 0xBF800000#32
  | 57 => 0xBEC3EF15#32
  | 58 => 0x3F3504F3#32
  | 59 => 0x3F6C835E#32
  | 60 => 0x248D3132#32
  | 61 => 0xBF6C835E#32
  | 62 => 0xBF3504F3#32
  | 63 => 0x3EC3EF15#32
  | 64 => 0x3F800000#32
  | 65 => 0x3EC3EF15#32
  | 66 => 0xBF3504F3#32
  | 67 => 0xBF6C835E#32
  | 68 => 0xA553C9CA#32
  | 69 => 0x3F6C835E#32
  | 70 => 0x3F3504F3#32
  | 71 => 0xBEC3EF15#32
  | 72 => 0xBF800000#32
  | 73 => 0xBEC3EF15#32
  | 74 => 0x3F3504F3#32
  | 75 => 0x3F6C835E#32
  | 76 => 0x248D3132#32
  | 77 => 0xBF6C835E#32
  | 78 => 0xBF3504F3#32
  | 79 => 0x3EC3EF15#32
  | 80 => 0x3F800000#32
  | 81 => 0x3EC3EF15#32
  | 82 => 0xBF3504F3#32
  | 83 => 0xBF6C835E#32
  | 84 => 0xA553C9CA#32
  | 85 => 0x3F6C835E#32
  | 86 => 0x3F3504F3#32
  | 87 => 0xBEC3EF15#32
  | 88 => 0xBF800000#32
  | 89 => 0xBEC3EF15#32
  | 90 => 0x3F3504F3#32
  | 91 => 0x3F6C835E#32
  | 92 => 0x248D3132#32
  | 93 => 0xBF6C835E#32
  | 94 => 0xBF3504F3#32
  | 95 => 0x3EC3EF15#32
  | 96 => 0x3F800000#32
  | 97 => 0x3EC3EF15#32
  | 98 => 0xBF3504F3#32
  | 99 => 0xBF6C835E#32
  | 100 => 0xA553C9CA#32
  | 101 => 0x3F6C835E#32
  | 102 => 0x3F3504F3#32
  | 103 => 0xBEC3EF15#32
  | 104 => 0xBF800000#32
  | 105 => 0xBEC3EF15#32
  | 106 => 0x3F3504F3#32
  | 107 => 0x3F6C835E#32
  | 108 => 0x248D3132#32
  | 109 => 0xBF6C835E#32
  | 110 => 0xBF3504F3#32
  | 111 => 0x3EC3EF15#32
  | 112 => 0x3F800000#32
  | 113 => 0x3EC3EF15#32
  | 114 => 0xBF3504F3#32
  | 115 => 0xBF6C835E#32
  | 116 => 0xA553C9CA#32
  | 117 => 0x3F6C835E#32
  | 118 => 0x3F3504F3#32
  | 119 => 0xBEC3EF15#32
  | 120 => 0xBF800000#32
  | 121 => 0xBEC3EF15#32
  | 122 => 0x3F3504F3#32
  | 123 => 0x3F6C835E#32
  | 124 => 0x248D3132#32
  | 125 => 0xBF6C835E#32
  | 126 => 0xBF3504F3#32
  | 127 => 0x3EC3EF15#32
  | _ => 0#32

noncomputable abbrev lit0t0_123 (i : Nat) : BitVec 32 := match i % 128 with
  | 0 => 0x3F800000#32
  | 1 => 0x3EC3EF15#32
  | 2 => 0xBF3504F3#32
  | 3 => 0xBF6C835E#32
  | 4 => 0xA553C9CA#32
  | 5 => 0x3F6C835E#32
  | 6 => 0x3F3504F3#32
  | 7 => 0xBEC3EF15#32
  | 8 => 0xBF800000#32
  | 9 => 0xBEC3EF15#32
  | 10 => 0x3F3504F3#32
  | 11 => 0x3F6C835E#32
  | 12 => 0x248D3132#32
  | 13 => 0xBF6C835E#32
  | 14 => 0xBF3504F3#32
  | 15 => 0x3EC3EF15#32
  | 16 => 0x3F800000#32
  | 17 => 0x3EC3EF15#32
  | 18 => 0xBF3504F3#32
  | 19 => 0xBF6C835E#32
  | 20 => 0xA553C9CA#32
  | 21 => 0x3F6C835E#32
  | 22 => 0x3F3504F3#32
  | 23 => 0xBEC3EF15#32
  | 24 => 0xBF800000#32
  | 25 => 0xBEC3EF15#32
  | 26 => 0x3F3504F3#32
  | 27 => 0x3F6C835E#32
  | 28 => 0x248D3132#32
  | 29 => 0xBF6C835E#32
  | 30 => 0xBF3504F3#32
  | 31 => 0x3EC3EF15#32
  | 32 => 0x3F800000#32
  | 33 => 0x3EC3EF15#32
  | 34 => 0xBF3504F3#32
  | 35 => 0xBF6C835E#32
  | 36 => 0xA553C9CA#32
  | 37 => 0x3F6C835E#32
  | 38 => 0x3F3504F3#32
  | 39 => 0xBEC3EF15#32
  | 40 => 0xBF800000#32
  | 41 => 0xBEC3EF15#32
  | 42 => 0x3F3504F3#32
  | 43 => 0x3F6C835E#32
  | 44 => 0x248D3132#32
  | 45 => 0xBF6C835E#32
  | 46 => 0xBF3504F3#32
  | 47 => 0x3EC3EF15#32
  | 48 => 0x3F800000#32
  | 49 => 0x3EC3EF15#32
  | 50 => 0xBF3504F3#32
  | 51 => 0xBF6C835E#32
  | 52 => 0xA553C9CA#32
  | 53 => 0x3F6C835E#32
  | 54 => 0x3F3504F3#32
  | 55 => 0xBEC3EF15#32
  | 56 => 0xBF800000#32
  | 57 => 0xBEC3EF15#32
  | 58 => 0x3F3504F3#32
  | 59 => 0x3F6C835E#32
  | 60 => 0x248D3132#32
  | 61 => 0xBF6C835E#32
  | 62 => 0xBF3504F3#32
  | 63 => 0x3EC3EF15#32
  | 64 => 0x3F800000#32
  | 65 => 0x3EC3EF15#32
  | 66 => 0xBF3504F3#32
  | 67 => 0xBF6C835E#32
  | 68 => 0xA553C9CA#32
  | 69 => 0x3F6C835E#32
  | 70 => 0x3F3504F3#32
  | 71 => 0xBEC3EF15#32
  | 72 => 0xBF800000#32
  | 73 => 0xBEC3EF15#32
  | 74 => 0x3F3504F3#32
  | 75 => 0x3F6C835E#32
  | 76 => 0x248D3132#32
  | 77 => 0xBF6C835E#32
  | 78 => 0xBF3504F3#32
  | 79 => 0x3EC3EF15#32
  | 80 => 0x3F800000#32
  | 81 => 0x3EC3EF15#32
  | 82 => 0xBF3504F3#32
  | 83 => 0xBF6C835E#32
  | 84 => 0xA553C9CA#32
  | 85 => 0x3F6C835E#32
  | 86 => 0x3F3504F3#32
  | 87 => 0xBEC3EF15#32
  | 88 => 0xBF800000#32
  | 89 => 0xBEC3EF15#32
  | 90 => 0x3F3504F3#32
  | 91 => 0x3F6C835E#32
  | 92 => 0x248D3132#32
  | 93 => 0xBF6C835E#32
  | 94 => 0xBF3504F3#32
  | 95 => 0x3EC3EF15#32
  | 96 => 0x3F800000#32
  | 97 => 0x3EB9917B#32
  | 98 => 0xBF3CBE35#32
  | 99 => 0xBF659974#32
  | 100 => 0x3DB27EB6#32
  | 101 => 0x3F75C5D4#32
  | 102 => 0x3F1BD7CA#32
  | 103 => 0xBF04CE53#32
  | 104 => 0xBF7C1C5C#32
  | 105 => 0xBE47C5C2#32
  | 106 => 0x3F57E880#32
  | 107 => 0x3F4E7327#32
  | 108 => 0xBE8483EE#32
  | 109 => 0xBF7E7A7A#32
  | 110 => 0xBEEC6A50#32
  | 111 => 0x3F28CAE3#32
  | 112 => 0x3F708FB2#32
  | 113 => 0x3CB2B521#32
  | 114 => 0xBF6C835E#32
  | 115 => 0xBF310700#32
  | 116 => 0x3ED8616C#32
  | 117 => 0x3F7F73AF#32
  | 118 => 0x3E99F61C#32
  | 119 => 0xBF47A682#32
  | 120 => 0xBF5DB3D7#32
  | 121 => 0x3E1BC63C#32
  | 122 => 0x3F79EE89#32
  | 123 => 0x3F0E39DA#32
  | 124 => 0xBF12D5E8#32
  | 125 => 0xBF78A9E0#32
  | 126 => 0xBE05A8A8#32
  | 127 => 0x3F60712A#32
  | _ => 0#32

noncomputable abbrev lit0t0_124 (i : Nat) : BitVec 32 := match i % 128 with
  | 0 => 0x3F441B7D#32
  | 1 => 0xBEA493B7#32
  | 2 => 0xBF7FC1A0#32
  | 3 => 0xBECE34D0#32
  | 4 => 0x3F3504F3#32
  | 5 => 0x3F6A51DA#32
  | 6 => 0xBD32AA3E#32
  | 7 => 0xBF726A03#32
  | 8 => 0xBF248DBB#32
  | 9 => 0x3EF64429#32
  | 10 => 0x3F7DCF55#32
  | 11 => 0x3E7363EE#32
  | 12 => 0xBF51B3F3#32
  | 13 => 0xBF54DB31#32
  | 14 => 0x3E5DA259#32
  | 15 => 0x3F7D0543#32
  | 16 => 0x3F000000#32
  | 17 => 0xBF203C85#32
  | 18 => 0xBF7426CB#32
  | 19 => 0xBD85F213#32
  | 20 => 0x3F6803CA#32
  | 21 => 0x3F38ECD8#32
  | 22 => 0xBEC3EF15#32
  | 23 => 0xBF7FF067#32
  | 24 => 0xBEAF1D44#32
  | 25 => 0x3F407893#32
  | 26 => 0x3F631324#32
  | 27 => 0xBDDEF599#32
  | 28 => 0xBF7746EA#32
  | 29 => 0xBF176012#32
  | 30 => 0x3F098C78#32
  | 31 => 0x3F7B14BE#32
  | 32 => 0x3E31D0D4#32
  | 33 => 0xBF5ADB81#32
  | 34 => 0xBF4B1934#32
  | 35 => 0x3E8F45C0#32
  | 36 => 0x3F7F069E#32
  | 37 => 0x3EE273AA#32
  | 38 => 0xBF2CF37B#32
  | 39 => 0xBF6E9811#32
  | 40 => 0xA553C9CA#32
  | 41 => 0x3F6E9811#32
  | 42 => 0x3F2CF37B#32
  | 43 => 0xBEE273AA#32
  | 44 => 0xBF7F069E#32
  | 45 => 0xBE8F45C0#32
  | 46 => 0x3F4B1934#32
  | 47 => 0x3F5ADB81#32
  | 48 => 0xBE31D0D4#32
  | 49 => 0xBF7B14BE#32
  | 50 => 0xBF098C78#32
  | 51 => 0x3F176012#32
  | 52 => 0x3F7746EA#32
  | 53 => 0x3DDEF599#32
  | 54 => 0xBF631324#32
  | 55 => 0xBF407893#32
  | 56 => 0x3EAF1D44#32
  | 57 => 0x3F7FF067#32
  | 58 => 0x3EC3EF15#32
  | 59 => 0xBF38ECD8#32
  | 60 => 0xBF6803CA#32
  | 61 => 0x3D85F213#32
  | 62 => 0x3F7426CB#32
  | 63 => 0x3F203C85#32
  | 64 => 0xBF000000#32
  | 65 => 0xBF7D0543#32
  | 66 => 0xBE5DA259#32
  | 67 => 0x3F54DB31#32
  | 68 => 0x3F51B3F3#32
  | 69 => 0xBE7363EE#32
  | 70 => 0xBF7DCF55#32
  | 71 => 0xBEF64429#32
  | 72 => 0x3F248DBB#32
  | 73 => 0x3F726A03#32
  | 74 => 0x3D32AA3E#32
  | 75 => 0xBF6A51DA#32
  | 76 => 0xBF3504F3#32
  | 77 => 0x3ECE34D0#32
  | 78 => 0x3F7FC1A0#32
  | 79 => 0x3EA493B7#32
  | 80 => 0xBF441B7D#32
  | 81 => 0xBF60712A#32
  | 82 => 0x3E05A8A8#32
  | 83 => 0x3F78A9E0#32
  | 84 => 0x3F12D5E8#32
  | 85 => 0xBF0E39DA#32
  | 86 => 0xBF79EE89#32
  | 87 => 0xBE1BC63C#32
  | 88 => 0x3F5DB3D7#32
  | 89 => 0x3F47A682#32
  | 90 => 0xBE99F61C#32
  | 91 => 0xBF7F73AF#32
  | 92 => 0xBED8616C#32
  | 93 => 0x3F310700#32
  | 94 => 0x3F6C835E#32
  | 95 => 0xBCB2B521#32
  | 96 => 0xBF708FB2#32
  | 97 => 0xBF28CAE3#32
  | 98 => 0x3EEC6A50#32
  | 99 => 0x3F7E7A7A#32
  | 100 => 0x3E8483EE#32
  | 101 => 0xBF4E7327#32
  | 102 => 0xBF57E880#32
  | 103 => 0x3E47C5C2#32
  | 104 => 0x3F7C1C5C#32
  | 105 => 0x3F04CE53#32
  | 106 => 0xBF1BD7CA#32
  | 107 => 0xBF75C5D4#32
  | 108 => 0xBDB27EB6#32
  | 109 => 0x3F659974#32
  | 110 => 0x3F3CBE35#32
  | 111 => 0xBEB9917B#32
  | 112 => 0xBF800000#32
  | 113 => 0xBEB9917B#32
  | 114 => 0x3F3CBE35#32
  | 115 => 0x3F659974#32
  | 116 => 0xBDB27EB6#32
  | 117 => 0xBF75C5D4#32
  | 118 => 0xBF1BD7CA#32
  | 119 => 0x3F04CE53#32
  | 120 => 0x3F7C1C5C#32
  | 121 => 0x3E47C5C2#32
  | 122 => 0xBF57E880#32
  | 123 => 0xBF4E7327#32
  | 124 => 0x3E8483EE#32
  | 125 => 0x3F7E7A7A#32
  | 126 => 0x3EEC6A50#32
  | 127 => 0xBF28CAE3#32
  | _ => 0#32

noncomputable abbrev lit0t0_125 (i : Nat) : BitVec 32 := match i % 128 with
  | 0 => 0xBF708FB2#32
  | 1 => 0xBCB2B521#32
  | 2 => 0x3F6C835E#32
  | 3 => 0x3F310700#32
  | 4 => 0xBED8616C#32
  | 5 => 0xBF7F73AF#32
  | 6 => 0xBE99F61C#32
  | 7 => 0x3F47A682#32
  | 8 => 0x3F5DB3D7#32
  | 9 => 0xBE1BC63C#32
  | 10 => 0xBF79EE89#32
  | 11 => 0xBF0E39DA#32
  | 12 => 0x3F12D5E8#32
  | 13 => 0x3F78A9E0#32
  | 14 => 0x3E05A8A8#32
  | 15 => 0xBF60712A#32
  | 16 => 0xBF441B7D#32
  | 17 => 0x3EA493B7#32
  | 18 => 0x3F7FC1A0#32
  | 19 => 0x3ECE34D0#32
  | 20 => 0xBF3504F3#32
  | 21 => 0xBF6A51DA#32
  | 22 => 0x3D32AA3E#32
  | 23 => 0x3F726A03#32
  | 24 => 0x3F248DBB#32
  | 25 => 0xBEF64429#32
  | 26 => 0xBF7DCF55#32
  | 27 => 0xBE7363EE#32
  | 28 => 0x3F51B3F3#32
  | 29 => 0x3F54DB31#32
  | 30 => 0xBE5DA259#32
  | 31 => 0xBF7D0543#32
  | 32 => 0xBF000000#32
  | 33 => 0x3F203C85#32
  | 34 => 0x3F7426CB#32
  | 35 => 0x3D85F213#32
  | 36 => 0xBF6803CA#32
  | 37 => 0xBF38ECD8#32
  | 38 => 0x3EC3EF15#32
  | 39 => 0x3F7FF067#32
  | 40 => 0x3EAF1D44#32
  | 41 => 0xBF407893#32
  | 42 => 0xBF631324#32
  | 43 => 0x3DDEF599#32
  | 44 => 0x3F7746EA#32
  | 45 => 0x3F176012#32
  | 46 => 0xBF098C78#32
  | 47 => 0xBF7B14BE#32
  | 48 => 0xBE31D0D4#32
  | 49 => 0x3F5ADB81#32
  | 50 => 0x3F4B1934#32
  | 51 => 0xBE8F45C0#32
  | 52 => 0xBF7F069E#32
  | 53 => 0xBEE273AA#32
  | 54 => 0x3F2CF37B#32
  | 55 => 0x3F6E9811#32
  | 56 => 0x248D3132#32
  | 57 => 0xBF6E9811#32
  | 58 => 0xBF2CF37B#32
  | 59 => 0x3EE273AA#32
  | 60 => 0x3F7F069E#32
  | 61 => 0x3E8F45C0#32
  | 62 => 0xBF4B1934#32
  | 63 => 0xBF5ADB81#32
  | 64 => 0x3E31D0D4#32
  | 65 => 0x3F7B14BE#32
  | 66 => 0x3F098C78#32
  | 67 => 0xBF176012#32
  | 68 => 0xBF7746EA#32
  | 69 => 0xBDDEF599#32
  | 70 => 0x3F631324#32
  | 71 => 0x3F407893#32
  | 72 => 0xBEAF1D44#32
  | 73 => 0xBF7FF067#32
  | 74 => 0xBEC3EF15#32
  | 75 => 0x3F38ECD8#32
  | 76 => 0x3F6803CA#32
  | 77 => 0xBD85F213#32
  | 78 => 0xBF7426CB#32
  | 79 => 0xBF203C85#32
  | 80 => 0x3F000000#32
  | 81 => 0x3F7D0543#32
  | 82 => 0x3E5DA259#32
  | 83 => 0xBF54DB31#32
  | 84 => 0xBF51B3F3#32
  | 85 => 0x3E7363EE#32
  | 86 => 0x3F7DCF55#32
  | 87 => 0x3EF64429#32
  | 88 => 0xBF248DBB#32
  | 89 => 0xBF726A03#32
  | 90 => 0xBD32AA3E#32
  | 91 => 0x3F6A51DA#32
  | 92 => 0x3F3504F3#32
  | 93 => 0xBECE34D0#32
  | 94 => 0xBF7FC1A0#32
  | 95 => 0xBEA493B7#32
  | 96 => 0x3F441B7D#32
  | 97 => 0x3F60712A#32
  | 98 => 0xBE05A8A8#32
  | 99 => 0xBF78A9E0#32
  | 100 => 0xBF12D5E8#32
  | 101 => 0x3F0E39DA#32
  | 102 => 0x3F79EE89#32
  | 103 => 0x3E1BC63C#32
  | 104 => 0xBF5DB3D7#32
  | 105 => 0xBF47A682#32
  | 106 => 0x3E99F61C#32
  | 107 => 0x3F7F73AF#32
  | 108 => 0x3ED8616C#32
  | 109 => 0xBF310700#32
  | 110 => 0xBF6C835E#32
  | 111 => 0x3CB2B521#32
  | 112 => 0x3F708FB2#32
  | 113 => 0x3F28CAE3#32
  | 114 => 0xBEEC6A50#32
  | 115 => 0xBF7E7A7A#32
  | 116 => 0xBE8483EE#32
  | 117 => 0x3F4E7327#32
  | 118 => 0x3F57E880#32
  | 119 => 0xBE47C5C2#32
  | 120 => 0xBF7C1C5C#32
  | 121 => 0xBF04CE53#32
  | 122 => 0x3F1BD7CA#32
  | 123 => 0x3F75C5D4#32
  | 124 => 0x3DB27EB6#32
  | 125 => 0xBF659974#32
  | 126 => 0xBF3CBE35#32
  | 127 => 0x3EB9917B#32
  | _ => 0#32

noncomputable abbrev lit0t0_126 (i : Nat) : BitVec 32 := match i % 128 with
  | 0 => 0x3F800000#32
  | 1 => 0x3EAF1D44#32
  | 2 => 0xBF441B7D#32
  | 3 => 0xBF5DB3D7#32
  | 4 => 0x3E31D0D4#32
  | 5 => 0x3F7C1C5C#32
  | 6 => 0x3F000000#32
  | 7 => 0xBF248DBB#32
  | 8 => 0xBF708FB2#32
  | 9 => 0xA553C9CA#32
  | 10 => 0x3F708FB2#32
  | 11 => 0x3F248DBB#32
  | 12 => 0xBF000000#32
  | 13 => 0xBF7C1C5C#32
  | 14 => 0xBE31D0D4#32
  | 15 => 0x3F5DB3D7#32
  | 16 => 0x3F441B7D#32
  | 17 => 0xBEAF1D44#32
  | 18 => 0xBF800000#32
  | 19 => 0xBEAF1D44#32
  | 20 => 0x3F441B7D#32
  | 21 => 0x3F5DB3D7#32
  | 22 => 0xBE31D0D4#32
  | 23 => 0xBF7C1C5C#32
  | 24 => 0xBF000000#32
  | 25 => 0x3F248DBB#32
  | 26 => 0x3F708FB2#32
  | 27 => 0x248D3132#32
  | 28 => 0xBF708FB2#32
  | 29 => 0xBF248DBB#32
  | 30 => 0x3F000000#32
  | 31 => 0x3F7C1C5C#32
  | 32 => 0x3E31D0D4#32
  | 33 => 0xBF5DB3D7#32
  | 34 => 0xBF441B7D#32
  | 35 => 0x3EAF1D44#32
  | 36 => 0x3F800000#32
  | 37 => 0x3EAF1D44#32
  | 38 => 0xBF441B7D#32
  | 39 => 0xBF5DB3D7#32
  | 40 => 0x3E31D0D4#32
  | 41 => 0x3F7C1C5C#32
  | 42 => 0x3F000000#32
  | 43 => 0xBF248DBB#32
  | 44 => 0xBF708FB2#32
  | 45 => 0xA553C9CA#32
  | 46 => 0x3F708FB2#32
  | 47 => 0x3F248DBB#32
  | 48 => 0xBF000000#32
  | 49 => 0xBF7C1C5C#32
  | 50 => 0xBE31D0D4#32
  | 51 => 0x3F5DB3D7#32
  | 52 => 0x3F441B7D#32
  | 53 => 0xBEAF1D44#32
  | 54 => 0xBF800000#32
  | 55 => 0xBEAF1D44#32
  | 56 => 0x3F441B7D#32
  | 57 => 0x3F5DB3D7#32
  | 58 => 0xBE31D0D4#32
  | 59 => 0xBF7C1C5C#32
  | 60 => 0xBF000000#32
  | 61 => 0x3F248DBB#32
  | 62 => 0x3F708FB2#32
  | 63 => 0x248D3132#32
  | 64 => 0xBF708FB2#32
  | 65 => 0xBF248DBB#32
  | 66 => 0x3F000000#32
  | 67 => 0x3F7C1C5C#32
  | 68 => 0x3E31D0D4#32
  | 69 => 0xBF5DB3D7#32
  | 70 => 0xBF441B7D#32
  | 71 => 0x3EAF1D44#32
  | 72 => 0x3F800000#32
  | 73 => 0x3EAF1D44#32
  | 74 => 0xBF441B7D#32
  | 75 => 0xBF5DB3D7#32
  | 76 => 0x3E31D0D4#32
  | 77 => 0x3F7C1C5C#32
  | 78 => 0x3F000000#32
  | 79 => 0xBF248DBB#32
  | 80 => 0xBF708FB2#32
  | 81 => 0xA553C9CA#32
  | 82 => 0x3F708FB2#32
  | 83 => 0x3F248DBB#32
  | 84 => 0xBF000000#32
  | 85 => 0xBF7C1C5C#32
  | 86 => 0xBE31D0D4#32
  | 87 => 0x3F5DB3D7#32
  | 88 => 0x3F441B7D#32
  | 89 => 0xBEAF1D44#32
  | 90 => 0xBF800000#32
  | 91 => 0xBEAF1D44#32
  | 92 => 0x3F441B7D#32
  | 93 => 0x3F5DB3D7#32
  | 94 => 0xBE31D0D4#32
  | 95 => 0xBF7C1C5C#32
  | 96 => 0xBF000000#32
  | 97 => 0x3F248DBB#32
  | 98 => 0x3F708FB2#32
  | 99 => 0x248D3132#32
  | 100 => 0xBF708FB2#32
  | 101 => 0xBF248DBB#32
  | 102 => 0x3F000000#32
  | 103 => 0x3F7C1C5C#32
  | 104 => 0x3E31D0D4#32
  | 105 => 0xBF5DB3D7#32
  | 106 => 0xBF441B7D#32
  | 107 => 0x3EAF1D44#32
  | 108 => 0x3F800000#32
  | 109 => 0x3EAF1D44#32
  | 110 => 0xBF441B7D#32
  | 111 => 0xBF5DB3D7#32
  | 112 => 0x3E31D0D4#32
  | 113 => 0x3F7C1C5C#32
  | 114 => 0x3F000000#32
  | 115 => 0xBF248DBB#32
  | 116 => 0xBF708FB2#32
  | 117 => 0xA553C9CA#32
  | 118 => 0x3F708FB2#32
  | 119 => 0x3F248DBB#32
  | 120 => 0xBF000000#32
  | 121 => 0xBF7C1C5C#32
  | 122 => 0xBE31D0D4#32
  | 123 => 0x3F5DB3D7#32
  | 124 => 0x3F441B7D#32
  | 125 => 0xBEAF1D44#32
  | 126 => 0xBF800000#32
  | 127 => 0xBEAF1D44#32
  | _ => 0#32

noncomputable abbrev lit0t0_127 (i : Nat) : BitVec 32 := match i % 128 with
  | 0 => 0x3F441B7D#32
  | 1 => 0x3F5DB3D7#32
  | 2 => 0xBE31D0D4#32
  | 3 => 0xBF7C1C5C#32
  | 4 => 0xBF000000#32
  | 5 => 0x3F248DBB#32
  | 6 => 0x3F708FB2#32
  | 7 => 0x248D3132#32
  | 8 => 0xBF708FB2#32
  | 9 => 0xBF248DBB#32
  | 10 => 0x3F000000#32
  | 11 => 0x3F7C1C5C#32
  | 12 => 0x3E31D0D4#32
  | 13 => 0xBF5DB3D7#32
  | 14 => 0xBF441B7D#32
  | 15 => 0x3EAF1D44#32
  | 16 => 0x3F800000#32
  | 17 => 0x3EAF1D44#32
  | 18 => 0xBF441B7D#32
  | 19 => 0xBF5DB3D7#32
  | 20 => 0x3E31D0D4#32
  | 21 => 0x3F7C1C5C#32
  | 22 => 0x3F000000#32
  | 23 => 0xBF248DBB#32
  | 24 => 0xBF708FB2#32
  | 25 => 0xA553C9CA#32
  | 26 => 0x3F708FB2#32
  | 27 => 0x3F248DBB#32
  | 28 => 0xBF000000#32
  | 29 => 0xBF7C1C5C#32
  | 30 => 0xBE31D0D4#32
  | 31 => 0x3F5DB3D7#32
  | 32 => 0x3F441B7D#32
  | 33 => 0xBEAF1D44#32
  | 34 => 0xBF800000#32
  | 35 => 0xBEAF1D44#32
  | 36 => 0x3F441B7D#32
  | 37 => 0x3F5DB3D7#32
  | 38 => 0xBE31D0D4#32
  | 39 => 0xBF7C1C5C#32
  | 40 => 0xBF000000#32
  | 41 => 0x3F248DBB#32
  | 42 => 0x3F708FB2#32
  | 43 => 0x248D3132#32
  | 44 => 0xBF708FB2#32
  | 45 => 0xBF248DBB#32
  | 46 => 0x3F000000#32
  | 47 => 0x3F7C1C5C#32
  | 48 => 0x3E31D0D4#32
  | 49 => 0xBF5DB3D7#32
  | 50 => 0xBF441B7D#32
  | 51 => 0x3EAF1D44#32
  | 52 => 0x3F800000#32
  | 53 => 0x3EAF1D44#32
  | 54 => 0xBF441B7D#32
  | 55 => 0xBF5DB3D7#32
  | 56 => 0x3E31D0D4#32
  | 57 => 0x3F7C1C5C#32
  | 58 => 0x3F000000#32
  | 59 => 0xBF248DBB#32
  | 60 => 0xBF708FB2#32
  | 61 => 0xA553C9CA#32
  | 62 => 0x3F708FB2#32
  | 63 => 0x3F248DBB#32
  | 64 => 0xBF000000#32
  | 65 => 0xBF7C1C5C#32
  | 66 => 0xBE31D0D4#32
  | 67 => 0x3F5DB3D7#32
  | 68 => 0x3F441B7D#32
  | 69 => 0xBEAF1D44#32
  | 70 => 0xBF800000#32
  | 71 => 0xBEAF1D44#32
  | 72 => 0x3F441B7D#32
  | 73 => 0x3F5DB3D7#32
  | 74 => 0xBE31D0D4#32
  | 75 => 0xBF7C1C5C#32
  | 76 => 0xBF000000#32
  | 77 => 0x3F248DBB#32
  | 78 => 0x3F708FB2#32
  | 79 => 0x248D3132#32
  | 80 => 0xBF708FB2#32
  | 81 => 0xBF248DBB#32
  | 82 => 0x3F000000#32
  | 83 => 0x3F7C1C5C#32
  | 84 => 0x3E31D0D4#32
  | 85 => 0xBF5DB3D7#32
  | 86 => 0xBF441B7D#32
  | 87 => 0x3EAF1D44#32
  | 88 => 0x3F800000#32
  | 89 => 0x3EAF1D44#32
  | 90 => 0xBF441B7D#32
  | 91 => 0xBF5DB3D7#32
  | 92 => 0x3E31D0D4#32
  | 93 => 0x3F7C1C5C#32
  | 94 => 0x3F000000#32
  | 95 => 0xBF248DBB#32
  | 96 => 0xBF708FB2#32
  | 97 => 0xA553C9CA#32
  | 98 => 0x3F708FB2#32
  | 99 => 0x3F248DBB#32
  | 100 => 0xBF000000#32
  | 101 => 0xBF7C1C5C#32
  | 102 => 0xBE31D0D4#32
  | 103 => 0x3F5DB3D7#32
  | 104 => 0x3F441B7D#32
  | 105 => 0xBEAF1D44#32
  | 106 => 0xBF800000#32
  | 107 => 0xBEAF1D44#32
  | 108 => 0x3F441B7D#32
  | 109 => 0x3F5DB3D7#32
  | 110 => 0xBE31D0D4#32
  | 111 => 0xBF7C1C5C#32
  | 112 => 0xBF000000#32
  | 113 => 0x3F248DBB#32
  | 114 => 0x3F708FB2#32
  | 115 => 0x248D3132#32
  | 116 => 0xBF708FB2#32
  | 117 => 0xBF248DBB#32
  | 118 => 0x3F000000#32
  | 119 => 0x3F7C1C5C#32
  | 120 => 0x3E31D0D4#32
  | 121 => 0xBF5DB3D7#32
  | 122 => 0xBF441B7D#32
  | 123 => 0x3EAF1D44#32
  | 124 => 0x3F800000#32
  | 125 => 0x3EAF1D44#32
  | 126 => 0xBF441B7D#32
  | 127 => 0xBF5DB3D7#32
  | _ => 0#32

noncomputable abbrev lit0t0_128 (i : Nat) : BitVec 32 := match i % 128 with
  | 0 => 0x3E31D0D4#32
  | 1 => 0x3F7C1C5C#32
  | 2 => 0x3F000000#32
  | 3 => 0xBF248DBB#32
  | 4 => 0xBF708FB2#32
  | 5 => 0xA553C9CA#32
  | 6 => 0x3F708FB2#32
  | 7 => 0x3F248DBB#32
  | 8 => 0xBF000000#32
  | 9 => 0xBF7C1C5C#32
  | 10 => 0xBE31D0D4#32
  | 11 => 0x3F5DB3D7#32
  | 12 => 0x3F441B7D#32
  | 13 => 0xBEAF1D44#32
  | 14 => 0xBF800000#32
  | 15 => 0xBEAF1D44#32
  | 16 => 0x3F441B7D#32
  | 17 => 0x3F5DB3D7#32
  | 18 => 0xBE31D0D4#32
  | 19 => 0xBF7C1C5C#32
  | 20 => 0xBF000000#32
  | 21 => 0x3F248DBB#32
  | 22 => 0x3F708FB2#32
  | 23 => 0x248D3132#32
  | 24 => 0xBF708FB2#32
  | 25 => 0xBF248DBB#32
  | 26 => 0x3F000000#32
  | 27 => 0x3F7C1C5C#32
  | 28 => 0x3E31D0D4#32
  | 29 => 0xBF5DB3D7#32
  | 30 => 0xBF441B7D#32
  | 31 => 0x3EAF1D44#32
  | 32 => 0x3F800000#32
  | 33 => 0x3EA493B7#32
  | 34 => 0xBF4B1934#32
  | 35 => 0xBF54DB31#32
  | 36 => 0x3E8483EE#32
  | 37 => 0x3F7F73AF#32
  | 38 => 0x3EC3EF15#32
  | 39 => 0xBF407893#32
  | 40 => 0xBF5DB3D7#32
  | 41 => 0x3E47C5C2#32
  | 42 => 0x3F7DCF55#32
  | 43 => 0x3EE273AA#32
  | 44 => 0xBF3504F3#32
  | 45 => 0xBF659974#32
  | 46 => 0x3E05A8A8#32
  | 47 => 0x3F7B14BE#32
  | 48 => 0x3F000000#32
  | 49 => 0xBF28CAE3#32
  | 50 => 0xBF6C835E#32
  | 51 => 0x3D85F213#32
  | 52 => 0x3F7746EA#32
  | 53 => 0x3F0E39DA#32
  | 54 => 0xBF1BD7CA#32
  | 55 => 0xBF726A03#32
  | 56 => 0xA553C9CA#32
  | 57 => 0x3F726A03#32
  | 58 => 0x3F1BD7CA#32
  | 59 => 0xBF0E39DA#32
  | 60 => 0xBF7746EA#32
  | 61 => 0xBD85F213#32
  | 62 => 0x3F6C835E#32
  | 63 => 0x3F28CAE3#32
  | 64 => 0xBF000000#32
  | 65 => 0xBF7B14BE#32
  | 66 => 0xBE05A8A8#32
  | 67 => 0x3F659974#32
  | 68 => 0x3F3504F3#32
  | 69 => 0xBEE273AA#32
  | 70 => 0xBF7DCF55#32
  | 71 => 0xBE47C5C2#32
  | 72 => 0x3F5DB3D7#32
  | 73 => 0x3F407893#32
  | 74 => 0xBEC3EF15#32
  | 75 => 0xBF7F73AF#32
  | 76 => 0xBE8483EE#32
  | 77 => 0x3F54DB31#32
  | 78 => 0x3F4B1934#32
  | 79 => 0xBEA493B7#32
  | 80 => 0xBF800000#32
  | 81 => 0xBEA493B7#32
  | 82 => 0x3F4B1934#32
  | 83 => 0x3F54DB31#32
  | 84 => 0xBE8483EE#32
  | 85 => 0xBF7F73AF#32
  | 86 => 0xBEC3EF15#32
  | 87 => 0x3F407893#32
  | 88 => 0x3F5DB3D7#32
  | 89 => 0xBE47C5C2#32
  | 90 => 0xBF7DCF55#32
  | 91 => 0xBEE273AA#32
  | 92 => 0x3F3504F3#32
  | 93 => 0x3F659974#32
  | 94 => 0xBE05A8A8#32
  | 95 => 0xBF7B14BE#32
  | 96 => 0xBF000000#32
  | 97 => 0x3F28CAE3#32
  | 98 => 0x3F6C835E#32
  | 99 => 0xBD85F213#32
  | 100 => 0xBF7746EA#32
  | 101 => 0xBF0E39DA#32
  | 102 => 0x3F1BD7CA#32
  | 103 => 0x3F726A03#32
  | 104 => 0x248D3132#32
  | 105 => 0xBF726A03#32
  | 106 => 0xBF1BD7CA#32
  | 107 => 0x3F0E39DA#32
  | 108 => 0x3F7746EA#32
  | 109 => 0x3D85F213#32
  | 110 => 0xBF6C835E#32
  | 111 => 0xBF28CAE3#32
  | 112 => 0x3F000000#32
  | 113 => 0x3F7B14BE#32
  | 114 => 0x3E05A8A8#32
  | 115 => 0xBF659974#32
  | 116 => 0xBF3504F3#32
  | 117 => 0x3EE273AA#32
  | 118 => 0x3F7DCF55#32
  | 119 => 0x3E47C5C2#32
  | 120 => 0xBF5DB3D7#32
  | 121 => 0xBF407893#32
  | 122 => 0x3EC3EF15#32
  | 123 => 0x3F7F73AF#32
  | 124 => 0x3E8483EE#32
  | 125 => 0xBF54DB31#32
  | 126 => 0xBF4B1934#32
  | 127 => 0x3EA493B7#32
  | _ => 0#32

noncomputable abbrev lit0t0_129 (i : Nat) : BitVec 32 := match i % 128 with
  | 0 => 0x3F800000#32
  | 1 => 0x3EA493B7#32
  | 2 => 0xBF4B1934#32
  | 3 => 0xBF54DB31#32
  | 4 => 0x3E8483EE#32
  | 5 => 0x3F7F73AF#32
  | 6 => 0x3EC3EF15#32
  | 7 => 0xBF407893#32
  | 8 => 0xBF5DB3D7#32
  | 9 => 0x3E47C5C2#32
  | 10 => 0x3F7DCF55#32
  | 11 => 0x3EE273AA#32
  | 12 => 0xBF3504F3#32
  | 13 => 0xBF659974#32
  | 14 => 0x3E05A8A8#32
  | 15 => 0x3F7B14BE#32
  | 16 => 0x3F000000#32
  | 17 => 0xBF28CAE3#32
  | 18 => 0xBF6C835E#32
  | 19 => 0x3D85F213#32
  | 20 => 0x3F7746EA#32
  | 21 => 0x3F0E39DA#32
  | 22 => 0xBF1BD7CA#32
  | 23 => 0xBF726A03#32
  | 24 => 0xA553C9CA#32
  | 25 => 0x3F726A03#32
  | 26 => 0x3F1BD7CA#32
  | 27 => 0xBF0E39DA#32
  | 28 => 0xBF7746EA#32
  | 29 => 0xBD85F213#32
  | 30 => 0x3F6C835E#32
  | 31 => 0x3F28CAE3#32
  | 32 => 0xBF000000#32
  | 33 => 0xBF7B14BE#32
  | 34 => 0xBE05A8A8#32
  | 35 => 0x3F659974#32
  | 36 => 0x3F3504F3#32
  | 37 => 0xBEE273AA#32
  | 38 => 0xBF7DCF55#32
  | 39 => 0xBE47C5C2#32
  | 40 => 0x3F5DB3D7#32
  | 41 => 0x3F407893#32
  | 42 => 0xBEC3EF15#32
  | 43 => 0xBF7F73AF#32
  | 44 => 0xBE8483EE#32
  | 45 => 0x3F54DB31#32
  | 46 => 0x3F4B1934#32
  | 47 => 0xBEA493B7#32
  | 48 => 0xBF800000#32
  | 49 => 0xBEA493B7#32
  | 50 => 0x3F4B1934#32
  | 51 => 0x3F54DB31#32
  | 52 => 0xBE8483EE#32
  | 53 => 0xBF7F73AF#32
  | 54 => 0xBEC3EF15#32
  | 55 => 0x3F407893#32
  | 56 => 0x3F5DB3D7#32
  | 57 => 0xBE47C5C2#32
  | 58 => 0xBF7DCF55#32
  | 59 => 0xBEE273AA#32
  | 60 => 0x3F3504F3#32
  | 61 => 0x3F659974#32
  | 62 => 0xBE05A8A8#32
  | 63 => 0xBF7B14BE#32
  | 64 => 0xBF000000#32
  | 65 => 0x3F28CAE3#32
  | 66 => 0x3F6C835E#32
  | 67 => 0xBD85F213#32
  | 68 => 0xBF7746EA#32
  | 69 => 0xBF0E39DA#32
  | 70 => 0x3F1BD7CA#32
  | 71 => 0x3F726A03#32
  | 72 => 0x248D3132#32
  | 73 => 0xBF726A03#32
  | 74 => 0xBF1BD7CA#32
  | 75 => 0x3F0E39DA#32
  | 76 => 0x3F7746EA#32
  | 77 => 0x3D85F213#32
  | 78 => 0xBF6C835E#32
  | 79 => 0xBF28CAE3#32
  | 80 => 0x3F000000#32
  | 81 => 0x3F7B14BE#32
  | 82 => 0x3E05A8A8#32
  | 83 => 0xBF659974#32
  | 84 => 0xBF3504F3#32
  | 85 => 0x3EE273AA#32
  | 86 => 0x3F7DCF55#32
  | 87 => 0x3E47C5C2#32
  | 88 => 0xBF5DB3D7#32
  | 89 => 0xBF407893#32
  | 90 => 0x3EC3EF15#32
  | 91 => 0x3F7F73AF#32
  | 92 => 0x3E8483EE#32
  | 93 => 0xBF54DB31#32
  | 94 => 0xBF4B1934#32
  | 95 => 0x3EA493B7#32
  | 96 => 0x3F800000#32
  | 97 => 0x3EA493B7#32
  | 98 => 0xBF4B1934#32
  | 99 => 0xBF54DB31#32
  | 100 => 0x3E8483EE#32
  | 101 => 0x3F7F73AF#32
  | 102 => 0x3EC3EF15#32
  | 103 => 0xBF407893#32
  | 104 => 0xBF5DB3D7#32
  | 105 => 0x3E47C5C2#32
  | 106 => 0x3F7DCF55#32
  | 107 => 0x3EE273AA#32
  | 108 => 0xBF3504F3#32
  | 109 => 0xBF659974#32
  | 110 => 0x3E05A8A8#32
  | 111 => 0x3F7B14BE#32
  | 112 => 0x3F000000#32
  | 113 => 0xBF28CAE3#32
  | 114 => 0xBF6C835E#32
  | 115 => 0x3D85F213#32
  | 116 => 0x3F7746EA#32
  | 117 => 0x3F0E39DA#32
  | 118 => 0xBF1BD7CA#32
  | 119 => 0xBF726A03#32
  | 120 => 0xA553C9CA#32
  | 121 => 0x3F726A03#32
  | 122 => 0x3F1BD7CA#32
  | 123 => 0xBF0E39DA#32
  | 124 => 0xBF7746EA#32
  | 125 => 0xBD85F213#32
  | 126 => 0x3F6C835E#32
  | 127 => 0x3F28CAE3#32
  | _ => 0#32

noncomputable abbrev lit0t0_130 (i : Nat) : BitVec 32 := match i % 128 with
  | 0 => 0xBF000000#32
  | 1 => 0xBF7B14BE#32
  | 2 => 0xBE05A8A8#32
  | 3 => 0x3F659974#32
  | 4 => 0x3F3504F3#32
  | 5 => 0xBEE273AA#32
  | 6 => 0xBF7DCF55#32
  | 7 => 0xBE47C5C2#32
  | 8 => 0x3F5DB3D7#32
  | 9 => 0x3F407893#32
  | 10 => 0xBEC3EF15#32
  | 11 => 0xBF7F73AF#32
  | 12 => 0xBE8483EE#32
  | 13 => 0x3F54DB31#32
  | 14 => 0x3F4B1934#32
  | 15 => 0xBEA493B7#32
  | 16 => 0xBF800000#32
  | 17 => 0xBEA493B7#32
  | 18 => 0x3F4B1934#32
  | 19 => 0x3F54DB31#32
  | 20 => 0xBE8483EE#32
  | 21 => 0xBF7F73AF#32
  | 22 => 0xBEC3EF15#32
  | 23 => 0x3F407893#32
  | 24 => 0x3F5DB3D7#32
  | 25 => 0xBE47C5C2#32
  | 26 => 0xBF7DCF55#32
  | 27 => 0xBEE273AA#32
  | 28 => 0x3F3504F3#32
  | 29 => 0x3F659974#32
  | 30 => 0xBE05A8A8#32
  | 31 => 0xBF7B14BE#32
  | 32 => 0xBF000000#32
  | 33 => 0x3F28CAE3#32
  | 34 => 0x3F6C835E#32
  | 35 => 0xBD85F213#32
  | 36 => 0xBF7746EA#32
  | 37 => 0xBF0E39DA#32
  | 38 => 0x3F1BD7CA#32
  | 39 => 0x3F726A03#32
  | 40 => 0x248D3132#32
  | 41 => 0xBF726A03#32
  | 42 => 0xBF1BD7CA#32
  | 43 => 0x3F0E39DA#32
  | 44 => 0x3F7746EA#32
  | 45 => 0x3D85F213#32
  | 46 => 0xBF6C835E#32
  | 47 => 0xBF28CAE3#32
  | 48 => 0x3F000000#32
  | 49 => 0x3F7B14BE#32
  | 50 => 0x3E05A8A8#32
  | 51 => 0xBF659974#32
  | 52 => 0xBF3504F3#32
  | 53 => 0x3EE273AA#32
  | 54 => 0x3F7DCF55#32
  | 55 => 0x3E47C5C2#32
  | 56 => 0xBF5DB3D7#32
  | 57 => 0xBF407893#32
  | 58 => 0x3EC3EF15#32
  | 59 => 0x3F7F73AF#32
  | 60 => 0x3E8483EE#32
  | 61 => 0xBF54DB31#32
  | 62 => 0xBF4B1934#32
  | 63 => 0x3EA493B7#32
  | 64 => 0x3F800000#32
  | 65 => 0x3E99F61C#32
  | 66 => 0xBF51B3F3#32
  | 67 => 0xBF4B1934#32
  | 68 => 0x3EAF1D44#32
  | 69 => 0x3F7FC1A0#32
  | 70 => 0x3E8483EE#32
  | 71 => 0xBF57E880#32
  | 72 => 0xBF441B7D#32
  | 73 => 0x3EC3EF15#32
  | 74 => 0x3F7F069E#32
  | 75 => 0x3E5DA259#32
  | 76 => 0xBF5DB3D7#32
  | 77 => 0xBF3CBE35#32
  | 78 => 0x3ED8616C#32
  | 79 => 0x3F7DCF55#32
  | 80 => 0x3E31D0D4#32
  | 81 => 0xBF631324#32
  | 82 => 0xBF3504F3#32
  | 83 => 0x3EEC6A50#32
  | 84 => 0x3F7C1C5C#32
  | 85 => 0x3E05A8A8#32
  | 86 => 0xBF6803CA#32
  | 87 => 0xBF2CF37B#32
  | 88 => 0x3F000000#32
  | 89 => 0x3F79EE89#32
  | 90 => 0x3DB27EB6#32
  | 91 => 0xBF6C835E#32
  | 92 => 0xBF248DBB#32
  | 93 => 0x3F098C78#32
  | 94 => 0x3F7746EA#32
  | 95 => 0x3D32AA3E#32
  | 96 => 0xBF708FB2#32
  | 97 => 0xBF1BD7CA#32
  | 98 => 0x3F12D5E8#32
  | 99 => 0x3F7426CB#32
  | 100 => 0x248D3132#32
  | 101 => 0xBF7426CB#32
  | 102 => 0xBF12D5E8#32
  | 103 => 0x3F1BD7CA#32
  | 104 => 0x3F708FB2#32
  | 105 => 0xBD32AA3E#32
  | 106 => 0xBF7746EA#32
  | 107 => 0xBF098C78#32
  | 108 => 0x3F248DBB#32
  | 109 => 0x3F6C835E#32
  | 110 => 0xBDB27EB6#32
  | 111 => 0xBF79EE89#32
  | 112 => 0xBF000000#32
  | 113 => 0x3F2CF37B#32
  | 114 => 0x3F6803CA#32
  | 115 => 0xBE05A8A8#32
  | 116 => 0xBF7C1C5C#32
  | 117 => 0xBEEC6A50#32
  | 118 => 0x3F3504F3#32
  | 119 => 0x3F631324#32
  | 120 => 0xBE31D0D4#32
  | 121 => 0xBF7DCF55#32
  | 122 => 0xBED8616C#32
  | 123 => 0x3F3CBE35#32
  | 124 => 0x3F5DB3D7#32
  | 125 => 0xBE5DA259#32
  | 126 => 0xBF7F069E#32
  | 127 => 0xBEC3EF15#32
  | _ => 0#32

noncomputable abbrev lit0t0_131 (i : Nat) : BitVec 32 := match i % 128 with
  | 0 => 0x3F441B7D#32
  | 1 => 0x3F57E880#32
  | 2 => 0xBE8483EE#32
  | 3 => 0xBF7FC1A0#32
  | 4 => 0xBEAF1D44#32
  | 5 => 0x3F4B1934#32
  | 6 => 0x3F51B3F3#32
  | 7 => 0xBE99F61C#32
  | 8 => 0xBF800000#32
  | 9 => 0xBE99F61C#32
  | 10 => 0x3F51B3F3#32
  | 11 => 0x3F4B1934#32
  | 12 => 0xBEAF1D44#32
  | 13 => 0xBF7FC1A0#32
  | 14 => 0xBE8483EE#32
  | 15 => 0x3F57E880#32
  | 16 => 0x3F441B7D#32
  | 17 => 0xBEC3EF15#32
  | 18 => 0xBF7F069E#32
  | 19 => 0xBE5DA259#32
  | 20 => 0x3F5DB3D7#32
  | 21 => 0x3F3CBE35#32
  | 22 => 0xBED8616C#32
  | 23 => 0xBF7DCF55#32
  | 24 => 0xBE31D0D4#32
  | 25 => 0x3F631324#32
  | 26 => 0x3F3504F3#32
  | 27 => 0xBEEC6A50#32
  | 28 => 0xBF7C1C5C#32
  | 29 => 0xBE05A8A8#32
  | 30 => 0x3F6803CA#32
  | 31 => 0x3F2CF37B#32
  | 32 => 0xBF000000#32
  | 33 => 0xBF79EE89#32
  | 34 => 0xBDB27EB6#32
  | 35 => 0x3F6C835E#32
  | 36 => 0x3F248DBB#32
  | 37 => 0xBF098C78#32
  | 38 => 0xBF7746EA#32
  | 39 => 0xBD32AA3E#32
  | 40 => 0x3F708FB2#32
  | 41 => 0x3F1BD7CA#32
  | 42 => 0xBF12D5E8#32
  | 43 => 0xBF7426CB#32
  | 44 => 0xA553C9CA#32
  | 45 => 0x3F7426CB#32
  | 46 => 0x3F12D5E8#32
  | 47 => 0xBF1BD7CA#32
  | 48 => 0xBF708FB2#32
  | 49 => 0x3D32AA3E#32
  | 50 => 0x3F7746EA#32
  | 51 => 0x3F098C78#32
  | 52 => 0xBF248DBB#32
  | 53 => 0xBF6C835E#32
  | 54 => 0x3DB27EB6#32
  | 55 => 0x3F79EE89#32
  | 56 => 0x3F000000#32
  | 57 => 0xBF2CF37B#32
  | 58 => 0xBF6803CA#32
  | 59 => 0x3E05A8A8#32
  | 60 => 0x3F7C1C5C#32
  | 61 => 0x3EEC6A50#32
  | 62 => 0xBF3504F3#32
  | 63 => 0xBF631324#32
  | 64 => 0x3E31D0D4#32
  | 65 => 0x3F7DCF55#32
  | 66 => 0x3ED8616C#32
  | 67 => 0xBF3CBE35#32
  | 68 => 0xBF5DB3D7#32
  | 69 => 0x3E5DA259#32
  | 70 => 0x3F7F069E#32
  | 71 => 0x3EC3EF15#32
  | 72 => 0xBF441B7D#32
  | 73 => 0xBF57E880#32
  | 74 => 0x3E8483EE#32
  | 75 => 0x3F7FC1A0#32
  | 76 => 0x3EAF1D44#32
  | 77 => 0xBF4B1934#32
  | 78 => 0xBF51B3F3#32
  | 79 => 0x3E99F61C#32
  | 80 => 0x3F800000#32
  | 81 => 0x3E99F61C#32
  | 82 => 0xBF51B3F3#32
  | 83 => 0xBF4B1934#32
  | 84 => 0x3EAF1D44#32
  | 85 => 0x3F7FC1A0#32
  | 86 => 0x3E8483EE#32
  | 87 => 0xBF57E880#32
  | 88 => 0xBF441B7D#32
  | 89 => 0x3EC3EF15#32
  | 90 => 0x3F7F069E#32
  | 91 => 0x3E5DA259#32
  | 92 => 0xBF5DB3D7#32
  | 93 => 0xBF3CBE35#32
  | 94 => 0x3ED8616C#32
  | 95 => 0x3F7DCF55#32
  | 96 => 0x3E31D0D4#32
  | 97 => 0xBF631324#32
  | 98 => 0xBF3504F3#32
  | 99 => 0x3EEC6A50#32
  | 100 => 0x3F7C1C5C#32
  | 101 => 0x3E05A8A8#32
  | 102 => 0xBF6803CA#32
  | 103 => 0xBF2CF37B#32
  | 104 => 0x3F000000#32
  | 105 => 0x3F79EE89#32
  | 106 => 0x3DB27EB6#32
  | 107 => 0xBF6C835E#32
  | 108 => 0xBF248DBB#32
  | 109 => 0x3F098C78#32
  | 110 => 0x3F7746EA#32
  | 111 => 0x3D32AA3E#32
  | 112 => 0xBF708FB2#32
  | 113 => 0xBF1BD7CA#32
  | 114 => 0x3F12D5E8#32
  | 115 => 0x3F7426CB#32
  | 116 => 0x248D3132#32
  | 117 => 0xBF7426CB#32
  | 118 => 0xBF12D5E8#32
  | 119 => 0x3F1BD7CA#32
  | 120 => 0x3F708FB2#32
  | 121 => 0xBD32AA3E#32
  | 122 => 0xBF7746EA#32
  | 123 => 0xBF098C78#32
  | 124 => 0x3F248DBB#32
  | 125 => 0x3F6C835E#32
  | 126 => 0xBDB27EB6#32
  | 127 => 0xBF79EE89#32
  | _ => 0#32

noncomputable abbrev lit0t0_132 (i : Nat) : BitVec 32 := match i % 128 with
  | 0 => 0xBF000000#32
  | 1 => 0x3F2CF37B#32
  | 2 => 0x3F6803CA#32
  | 3 => 0xBE05A8A8#32
  | 4 => 0xBF7C1C5C#32
  | 5 => 0xBEEC6A50#32
  | 6 => 0x3F3504F3#32
  | 7 => 0x3F631324#32
  | 8 => 0xBE31D0D4#32
  | 9 => 0xBF7DCF55#32
  | 10 => 0xBED8616C#32
  | 11 => 0x3F3CBE35#32
  | 12 => 0x3F5DB3D7#32
  | 13 => 0xBE5DA259#32
  | 14 => 0xBF7F069E#32
  | 15 => 0xBEC3EF15#32
  | 16 => 0x3F441B7D#32
  | 17 => 0x3F57E880#32
  | 18 => 0xBE8483EE#32
  | 19 => 0xBF7FC1A0#32
  | 20 => 0xBEAF1D44#32
  | 21 => 0x3F4B1934#32
  | 22 => 0x3F51B3F3#32
  | 23 => 0xBE99F61C#32
  | 24 => 0xBF800000#32
  | 25 => 0xBE99F61C#32
  | 26 => 0x3F51B3F3#32
  | 27 => 0x3F4B1934#32
  | 28 => 0xBEAF1D44#32
  | 29 => 0xBF7FC1A0#32
  | 30 => 0xBE8483EE#32
  | 31 => 0x3F57E880#32
  | 32 => 0x3F441B7D#32
  | 33 => 0xBEC3EF15#32
  | 34 => 0xBF7F069E#32
  | 35 => 0xBE5DA259#32
  | 36 => 0x3F5DB3D7#32
  | 37 => 0x3F3CBE35#32
  | 38 => 0xBED8616C#32
  | 39 => 0xBF7DCF55#32
  | 40 => 0xBE31D0D4#32
  | 41 => 0x3F631324#32
  | 42 => 0x3F3504F3#32
  | 43 => 0xBEEC6A50#32
  | 44 => 0xBF7C1C5C#32
  | 45 => 0xBE05A8A8#32
  | 46 => 0x3F6803CA#32
  | 47 => 0x3F2CF37B#32
  | 48 => 0xBF000000#32
  | 49 => 0xBF79EE89#32
  | 50 => 0xBDB27EB6#32
  | 51 => 0x3F6C835E#32
  | 52 => 0x3F248DBB#32
  | 53 => 0xBF098C78#32
  | 54 => 0xBF7746EA#32
  | 55 => 0xBD32AA3E#32
  | 56 => 0x3F708FB2#32
  | 57 => 0x3F1BD7CA#32
  | 58 => 0xBF12D5E8#32
  | 59 => 0xBF7426CB#32
  | 60 => 0xA553C9CA#32
  | 61 => 0x3F7426CB#32
  | 62 => 0x3F12D5E8#32
  | 63 => 0xBF1BD7CA#32
  | 64 => 0xBF708FB2#32
  | 65 => 0x3D32AA3E#32
  | 66 => 0x3F7746EA#32
  | 67 => 0x3F098C78#32
  | 68 => 0xBF248DBB#32
  | 69 => 0xBF6C835E#32
  | 70 => 0x3DB27EB6#32
  | 71 => 0x3F79EE89#32
  | 72 => 0x3F000000#32
  | 73 => 0xBF2CF37B#32
  | 74 => 0xBF6803CA#32
  | 75 => 0x3E05A8A8#32
  | 76 => 0x3F7C1C5C#32
  | 77 => 0x3EEC6A50#32
  | 78 => 0xBF3504F3#32
  | 79 => 0xBF631324#32
  | 80 => 0x3E31D0D4#32
  | 81 => 0x3F7DCF55#32
  | 82 => 0x3ED8616C#32
  | 83 => 0xBF3CBE35#32
  | 84 => 0xBF5DB3D7#32
  | 85 => 0x3E5DA259#32
  | 86 => 0x3F7F069E#32
  | 87 => 0x3EC3EF15#32
  | 88 => 0xBF441B7D#32
  | 89 => 0xBF57E880#32
  | 90 => 0x3E8483EE#32
  | 91 => 0x3F7FC1A0#32
  | 92 => 0x3EAF1D44#32
  | 93 => 0xBF4B1934#32
  | 94 => 0xBF51B3F3#32
  | 95 => 0x3E99F61C#32
  | 96 => 0x3F800000#32
  | 97 => 0x3E8F45C0#32
  | 98 => 0xBF57E880#32
  | 99 => 0xBF407893#32
  | 100 => 0x3ED8616C#32
  | 101 => 0x3F7D0543#32
  | 102 => 0x3E05A8A8#32
  | 103 => 0xBF6A51DA#32
  | 104 => 0xBF248DBB#32
  | 105 => 0x3F0E39DA#32
  | 106 => 0x3F7426CB#32
  | 107 => 0xBCB2B521#32
  | 108 => 0xBF7746EA#32
  | 109 => 0xBF04CE53#32
  | 110 => 0x3F2CF37B#32
  | 111 => 0x3F659974#32
  | 112 => 0xBE31D0D4#32
  | 113 => 0xBF7E7A7A#32
  | 114 => 0xBEC3EF15#32
  | 115 => 0x3F47A682#32
  | 116 => 0x3F51B3F3#32
  | 117 => 0xBEA493B7#32
  | 118 => 0xBF7FC1A0#32
  | 119 => 0xBE7363EE#32
  | 120 => 0x3F5DB3D7#32
  | 121 => 0x3F38ECD8#32
  | 122 => 0xBEEC6A50#32
  | 123 => 0xBF7B14BE#32
  | 124 => 0xBDB27EB6#32
  | 125 => 0x3F6E9811#32
  | 126 => 0x3F1BD7CA#32
  | 127 => 0xBF176012#32
  | _ => 0#32

noncomputable abbrev lit0t0_133 (i : Nat) : BitVec 32 := match i % 128 with
  | 0 => 0xBF708FB2#32
  | 1 => 0x3D85F213#32
  | 2 => 0x3F79EE89#32
  | 3 => 0x3EF64429#32
  | 4 => 0xBF3504F3#32
  | 5 => 0xBF60712A#32
  | 6 => 0x3E5DA259#32
  | 7 => 0x3F7F73AF#32
  | 8 => 0x3EAF1D44#32
  | 9 => 0xBF4E7327#32
  | 10 => 0xBF4B1934#32
  | 11 => 0x3EB9917B#32
  | 12 => 0x3F7F069E#32
  | 13 => 0x3E47C5C2#32
  | 14 => 0xBF631324#32
  | 15 => 0xBF310700#32
  | 16 => 0x3F000000#32
  | 17 => 0x3F78A9E0#32
  | 18 => 0x3D32AA3E#32
  | 19 => 0xBF726A03#32
  | 20 => 0xBF12D5E8#32
  | 21 => 0x3F203C85#32
  | 22 => 0x3F6C835E#32
  | 23 => 0xBDDEF599#32
  | 24 => 0xBF7C1C5C#32
  | 25 => 0xBEE273AA#32
  | 26 => 0x3F3CBE35#32
  | 27 => 0x3F5ADB81#32
  | 28 => 0xBE8483EE#32
  | 29 => 0xBF7FF067#32
  | 30 => 0xBE99F61C#32
  | 31 => 0x3F54DB31#32
  | 32 => 0x3F441B7D#32
  | 33 => 0xBECE34D0#32
  | 34 => 0xBF7DCF55#32
  | 35 => 0xBE1BC63C#32
  | 36 => 0x3F6803CA#32
  | 37 => 0x3F28CAE3#32
  | 38 => 0xBF098C78#32
  | 39 => 0xBF75C5D4#32
  | 40 => 0xA553C9CA#32
  | 41 => 0x3F75C5D4#32
  | 42 => 0x3F098C78#32
  | 43 => 0xBF28CAE3#32
  | 44 => 0xBF6803CA#32
  | 45 => 0x3E1BC63C#32
  | 46 => 0x3F7DCF55#32
  | 47 => 0x3ECE34D0#32
  | 48 => 0xBF441B7D#32
  | 49 => 0xBF54DB31#32
  | 50 => 0x3E99F61C#32
  | 51 => 0x3F7FF067#32
  | 52 => 0x3E8483EE#32
  | 53 => 0xBF5ADB81#32
  | 54 => 0xBF3CBE35#32
  | 55 => 0x3EE273AA#32
  | 56 => 0x3F7C1C5C#32
  | 57 => 0x3DDEF599#32
  | 58 => 0xBF6C835E#32
  | 59 => 0xBF203C85#32
  | 60 => 0x3F12D5E8#32
  | 61 => 0x3F726A03#32
  | 62 => 0xBD32AA3E#32
  | 63 => 0xBF78A9E0#32
  | 64 => 0xBF000000#32
  | 65 => 0x3F310700#32
  | 66 => 0x3F631324#32
  | 67 => 0xBE47C5C2#32
  | 68 => 0xBF7F069E#32
  | 69 => 0xBEB9917B#32
  | 70 => 0x3F4B1934#32
  | 71 => 0x3F4E7327#32
  | 72 => 0xBEAF1D44#32
  | 73 => 0xBF7F73AF#32
  | 74 => 0xBE5DA259#32
  | 75 => 0x3F60712A#32
  | 76 => 0x3F3504F3#32
  | 77 => 0xBEF64429#32
  | 78 => 0xBF79EE89#32
  | 79 => 0xBD85F213#32
  | 80 => 0x3F708FB2#32
  | 81 => 0x3F176012#32
  | 82 => 0xBF1BD7CA#32
  | 83 => 0xBF6E9811#32
  | 84 => 0x3DB27EB6#32
  | 85 => 0x3F7B14BE#32
  | 86 => 0x3EEC6A50#32
  | 87 => 0xBF38ECD8#32
  | 88 => 0xBF5DB3D7#32
  | 89 => 0x3E7363EE#32
  | 90 => 0x3F7FC1A0#32
  | 91 => 0x3EA493B7#32
  | 92 => 0xBF51B3F3#32
  | 93 => 0xBF47A682#32
  | 94 => 0x3EC3EF15#32
  | 95 => 0x3F7E7A7A#32
  | 96 => 0x3E31D0D4#32
  | 97 => 0xBF659974#32
  | 98 => 0xBF2CF37B#32
  | 99 => 0x3F04CE53#32
  | 100 => 0x3F7746EA#32
  | 101 => 0x3CB2B521#32
  | 102 => 0xBF7426CB#32
  | 103 => 0xBF0E39DA#32
  | 104 => 0x3F248DBB#32
  | 105 => 0x3F6A51DA#32
  | 106 => 0xBE05A8A8#32
  | 107 => 0xBF7D0543#32
  | 108 => 0xBED8616C#32
  | 109 => 0x3F407893#32
  | 110 => 0x3F57E880#32
  | 111 => 0xBE8F45C0#32
  | 112 => 0xBF800000#32
  | 113 => 0xBE8F45C0#32
  | 114 => 0x3F57E880#32
  | 115 => 0x3F407893#32
  | 116 => 0xBED8616C#32
  | 117 => 0xBF7D0543#32
  | 118 => 0xBE05A8A8#32
  | 119 => 0x3F6A51DA#32
  | 120 => 0x3F248DBB#32
  | 121 => 0xBF0E39DA#32
  | 122 => 0xBF7426CB#32
  | 123 => 0x3CB2B521#32
  | 124 => 0x3F7746EA#32
  | 125 => 0x3F04CE53#32
  | 126 => 0xBF2CF37B#32
  | 127 => 0xBF659974#32
  | _ => 0#32

noncomputable abbrev lit0t0_134 (i : Nat) : BitVec 32 := match i % 128 with
  | 0 => 0x3E31D0D4#32
  | 1 => 0x3F7E7A7A#32
  | 2 => 0x3EC3EF15#32
  | 3 => 0xBF47A682#32
  | 4 => 0xBF51B3F3#32
  | 5 => 0x3EA493B7#32
  | 6 => 0x3F7FC1A0#32
  | 7 => 0x3E7363EE#32
  | 8 => 0xBF5DB3D7#32
  | 9 => 0xBF38ECD8#32
  | 10 => 0x3EEC6A50#32
  | 11 => 0x3F7B14BE#32
  | 12 => 0x3DB27EB6#32
  | 13 => 0xBF6E9811#32
  | 14 => 0xBF1BD7CA#32
  | 15 => 0x3F176012#32
  | 16 => 0x3F708FB2#32
  | 17 => 0xBD85F213#32
  | 18 => 0xBF79EE89#32
  | 19 => 0xBEF64429#32
  | 20 => 0x3F3504F3#32
  | 21 => 0x3F60712A#32
  | 22 => 0xBE5DA259#32
  | 23 => 0xBF7F73AF#32
  | 24 => 0xBEAF1D44#32
  | 25 => 0x3F4E7327#32
  | 26 => 0x3F4B1934#32
  | 27 => 0xBEB9917B#32
  | 28 => 0xBF7F069E#32
  | 29 => 0xBE47C5C2#32
  | 30 => 0x3F631324#32
  | 31 => 0x3F310700#32
  | 32 => 0xBF000000#32
  | 33 => 0xBF78A9E0#32
  | 34 => 0xBD32AA3E#32
  | 35 => 0x3F726A03#32
  | 36 => 0x3F12D5E8#32
  | 37 => 0xBF203C85#32
  | 38 => 0xBF6C835E#32
  | 39 => 0x3DDEF599#32
  | 40 => 0x3F7C1C5C#32
  | 41 => 0x3EE273AA#32
  | 42 => 0xBF3CBE35#32
  | 43 => 0xBF5ADB81#32
  | 44 => 0x3E8483EE#32
  | 45 => 0x3F7FF067#32
  | 46 => 0x3E99F61C#32
  | 47 => 0xBF54DB31#32
  | 48 => 0xBF441B7D#32
  | 49 => 0x3ECE34D0#32
  | 50 => 0x3F7DCF55#32
  | 51 => 0x3E1BC63C#32
  | 52 => 0xBF6803CA#32
  | 53 => 0xBF28CAE3#32
  | 54 => 0x3F098C78#32
  | 55 => 0x3F75C5D4#32
  | 56 => 0x248D3132#32
  | 57 => 0xBF75C5D4#32
  | 58 => 0xBF098C78#32
  | 59 => 0x3F28CAE3#32
  | 60 => 0x3F6803CA#32
  | 61 => 0xBE1BC63C#32
  | 62 => 0xBF7DCF55#32
  | 63 => 0xBECE34D0#32
  | 64 => 0x3F441B7D#32
  | 65 => 0x3F54DB31#32
  | 66 => 0xBE99F61C#32
  | 67 => 0xBF7FF067#32
  | 68 => 0xBE8483EE#32
  | 69 => 0x3F5ADB81#32
  | 70 => 0x3F3CBE35#32
  | 71 => 0xBEE273AA#32
  | 72 => 0xBF7C1C5C#32
  | 73 => 0xBDDEF599#32
  | 74 => 0x3F6C835E#32
  | 75 => 0x3F203C85#32
  | 76 => 0xBF12D5E8#32
  | 77 => 0xBF726A03#32
  | 78 => 0x3D32AA3E#32
  | 79 => 0x3F78A9E0#32
  | 80 => 0x3F000000#32
  | 81 => 0xBF310700#32
  | 82 => 0xBF631324#32
  | 83 => 0x3E47C5C2#32
  | 84 => 0x3F7F069E#32
  | 85 => 0x3EB9917B#32
  | 86 => 0xBF4B1934#32
  | 87 => 0xBF4E7327#32
  | 88 => 0x3EAF1D44#32
  | 89 => 0x3F7F73AF#32
  | 90 => 0x3E5DA259#32
  | 91 => 0xBF60712A#32
  | 92 => 0xBF3504F3#32
  | 93 => 0x3EF64429#32
  | 94 => 0x3F79EE89#32
  | 95 => 0x3D85F213#32
  | 96 => 0xBF708FB2#32
  | 97 => 0xBF176012#32
  | 98 => 0x3F1BD7CA#32
  | 99 => 0x3F6E9811#32
  | 100 => 0xBDB27EB6#32
  | 101 => 0xBF7B14BE#32
  | 102 => 0xBEEC6A50#32
  | 103 => 0x3F38ECD8#32
  | 104 => 0x3F5DB3D7#32
  | 105 => 0xBE7363EE#32
  | 106 => 0xBF7FC1A0#32
  | 107 => 0xBEA493B7#32
  | 108 => 0x3F51B3F3#32
  | 109 => 0x3F47A682#32
  | 110 => 0xBEC3EF15#32
  | 111 => 0xBF7E7A7A#32
  | 112 => 0xBE31D0D4#32
  | 113 => 0x3F659974#32
  | 114 => 0x3F2CF37B#32
  | 115 => 0xBF04CE53#32
  | 116 => 0xBF7746EA#32
  | 117 => 0xBCB2B521#32
  | 118 => 0x3F7426CB#32
  | 119 => 0x3F0E39DA#32
  | 120 => 0xBF248DBB#32
  | 121 => 0xBF6A51DA#32
  | 122 => 0x3E05A8A8#32
  | 123 => 0x3F7D0543#32
  | 124 => 0x3ED8616C#32
  | 125 => 0xBF407893#32
  | 126 => 0xBF57E880#32
  | 127 => 0x3E8F45C0#32
  | _ => 0#32

noncomputable abbrev lit0t0_135 (i : Nat) : BitVec 32 := match i % 128 with
  | 0 => 0x3F800000#32
  | 1 => 0x3E8483EE#32
  | 2 => 0xBF5DB3D7#32
  | 3 => 0xBF3504F3#32
  | 4 => 0x3F000000#32
  | 5 => 0x3F7746EA#32
  | 6 => 0x248D3132#32
  | 7 => 0xBF7746EA#32
  | 8 => 0xBF000000#32
  | 9 => 0x3F3504F3#32
  | 10 => 0x3F5DB3D7#32
  | 11 => 0xBE8483EE#32
  | 12 => 0xBF800000#32
  | 13 => 0xBE8483EE#32
  | 14 => 0x3F5DB3D7#32
  | 15 => 0x3F3504F3#32
  | 16 => 0xBF000000#32
  | 17 => 0xBF7746EA#32
  | 18 => 0xA553C9CA#32
  | 19 => 0x3F7746EA#32
  | 20 => 0x3F000000#32
  | 21 => 0xBF3504F3#32
  | 22 => 0xBF5DB3D7#32
  | 23 => 0x3E8483EE#32
  | 24 => 0x3F800000#32
  | 25 => 0x3E8483EE#32
  | 26 => 0xBF5DB3D7#32
  | 27 => 0xBF3504F3#32
  | 28 => 0x3F000000#32
  | 29 => 0x3F7746EA#32
  | 30 => 0x248D3132#32
  | 31 => 0xBF7746EA#32
  | 32 => 0xBF000000#32
  | 33 => 0x3F3504F3#32
  | 34 => 0x3F5DB3D7#32
  | 35 => 0xBE8483EE#32
  | 36 => 0xBF800000#32
  | 37 => 0xBE8483EE#32
  | 38 => 0x3F5DB3D7#32
  | 39 => 0x3F3504F3#32
  | 40 => 0xBF000000#32
  | 41 => 0xBF7746EA#32
  | 42 => 0xA553C9CA#32
  | 43 => 0x3F7746EA#32
  | 44 => 0x3F000000#32
  | 45 => 0xBF3504F3#32
  | 46 => 0xBF5DB3D7#32
  | 47 => 0x3E8483EE#32
  | 48 => 0x3F800000#32
  | 49 => 0x3E8483EE#32
  | 50 => 0xBF5DB3D7#32
  | 51 => 0xBF3504F3#32
  | 52 => 0x3F000000#32
  | 53 => 0x3F7746EA#32
  | 54 => 0x248D3132#32
  | 55 => 0xBF7746EA#32
  | 56 => 0xBF000000#32
  | 57 => 0x3F3504F3#32
  | 58 => 0x3F5DB3D7#32
  | 59 => 0xBE8483EE#32
  | 60 => 0xBF800000#32
  | 61 => 0xBE8483EE#32
  | 62 => 0x3F5DB3D7#32
  | 63 => 0x3F3504F3#32
  | 64 => 0xBF000000#32
  | 65 => 0xBF7746EA#32
  | 66 => 0xA553C9CA#32
  | 67 => 0x3F7746EA#32
  | 68 => 0x3F000000#32
  | 69 => 0xBF3504F3#32
  | 70 => 0xBF5DB3D7#32
  | 71 => 0x3E8483EE#32
  | 72 => 0x3F800000#32
  | 73 => 0x3E8483EE#32
  | 74 => 0xBF5DB3D7#32
  | 75 => 0xBF3504F3#32
  | 76 => 0x3F000000#32
  | 77 => 0x3F7746EA#32
  | 78 => 0x248D3132#32
  | 79 => 0xBF7746EA#32
  | 80 => 0xBF000000#32
  | 81 => 0x3F3504F3#32
  | 82 => 0x3F5DB3D7#32
  | 83 => 0xBE8483EE#32
  | 84 => 0xBF800000#32
  | 85 => 0xBE8483EE#32
  | 86 => 0x3F5DB3D7#32
  | 87 => 0x3F3504F3#32
  | 88 => 0xBF000000#32
  | 89 => 0xBF7746EA#32
  | 90 => 0xA553C9CA#32
  | 91 => 0x3F7746EA#32
  | 92 => 0x3F000000#32
  | 93 => 0xBF3504F3#32
  | 94 => 0xBF5DB3D7#32
  | 95 => 0x3E8483EE#32
  | 96 => 0x3F800000#32
  | 97 => 0x3E8483EE#32
  | 98 => 0xBF5DB3D7#32
  | 99 => 0xBF3504F3#32
  | 100 => 0x3F000000#32
  | 101 => 0x3F7746EA#32
  | 102 => 0x248D3132#32
  | 103 => 0xBF7746EA#32
  | 104 => 0xBF000000#32
  | 105 => 0x3F3504F3#32
  | 106 => 0x3F5DB3D7#32
  | 107 => 0xBE8483EE#32
  | 108 => 0xBF800000#32
  | 109 => 0xBE8483EE#32
  | 110 => 0x3F5DB3D7#32
  | 111 => 0x3F3504F3#32
  | 112 => 0xBF000000#32
  | 113 => 0xBF7746EA#32
  | 114 => 0xA553C9CA#32
  | 115 => 0x3F7746EA#32
  | 116 => 0x3F000000#32
  | 117 => 0xBF3504F3#32
  | 118 => 0xBF5DB3D7#32
  | 119 => 0x3E8483EE#32
  | 120 => 0x3F800000#32
  | 121 => 0x3E8483EE#32
  | 122 => 0xBF5DB3D7#32
  | 123 => 0xBF3504F3#32
  | 124 => 0x3F000000#32
  | 125 => 0x3F7746EA#32
  | 126 => 0x248D3132#32
  | 127 => 0xBF7746EA#32
  | _ => 0#32

noncomputable abbrev lit0t0_136 (i : Nat) : BitVec 32 := match i % 128 with
  | 0 => 0xBF000000#32
  | 1 => 0x3F3504F3#32
  | 2 => 0x3F5DB3D7#32
  | 3 => 0xBE8483EE#32
  | 4 => 0xBF800000#32
  | 5 => 0xBE8483EE#32
  | 6 => 0x3F5DB3D7#32
  | 7 => 0x3F3504F3#32
  | 8 => 0xBF000000#32
  | 9 => 0xBF7746EA#32
  | 10 => 0xA553C9CA#32
  | 11 => 0x3F7746EA#32
  | 12 => 0x3F000000#32
  | 13 => 0xBF3504F3#32
  | 14 => 0xBF5DB3D7#32
  | 15 => 0x3E8483EE#32
  | 16 => 0x3F800000#32
  | 17 => 0x3E8483EE#32
  | 18 => 0xBF5DB3D7#32
  | 19 => 0xBF3504F3#32
  | 20 => 0x3F000000#32
  | 21 => 0x3F7746EA#32
  | 22 => 0x248D3132#32
  | 23 => 0xBF7746EA#32
  | 24 => 0xBF000000#32
  | 25 => 0x3F3504F3#32
  | 26 => 0x3F5DB3D7#32
  | 27 => 0xBE8483EE#32
  | 28 => 0xBF800000#32
  | 29 => 0xBE8483EE#32
  | 30 => 0x3F5DB3D7#32
  | 31 => 0x3F3504F3#32
  | 32 => 0xBF000000#32
  | 33 => 0xBF7746EA#32
  | 34 => 0xA553C9CA#32
  | 35 => 0x3F7746EA#32
  | 36 => 0x3F000000#32
  | 37 => 0xBF3504F3#32
  | 38 => 0xBF5DB3D7#32
  | 39 => 0x3E8483EE#32
  | 40 => 0x3F800000#32
  | 41 => 0x3E8483EE#32
  | 42 => 0xBF5DB3D7#32
  | 43 => 0xBF3504F3#32
  | 44 => 0x3F000000#32
  | 45 => 0x3F7746EA#32
  | 46 => 0x248D3132#32
  | 47 => 0xBF7746EA#32
  | 48 => 0xBF000000#32
  | 49 => 0x3F3504F3#32
  | 50 => 0x3F5DB3D7#32
  | 51 => 0xBE8483EE#32
  | 52 => 0xBF800000#32
  | 53 => 0xBE8483EE#32
  | 54 => 0x3F5DB3D7#32
  | 55 => 0x3F3504F3#32
  | 56 => 0xBF000000#32
  | 57 => 0xBF7746EA#32
  | 58 => 0xA553C9CA#32
  | 59 => 0x3F7746EA#32
  | 60 => 0x3F000000#32
  | 61 => 0xBF3504F3#32
  | 62 => 0xBF5DB3D7#32
  | 63 => 0x3E8483EE#32
  | 64 => 0x3F800000#32
  | 65 => 0x3E8483EE#32
  | 66 => 0xBF5DB3D7#32
  | 67 => 0xBF3504F3#32
  | 68 => 0x3F000000#32
  | 69 => 0x3F7746EA#32
  | 70 => 0x248D3132#32
  | 71 => 0xBF7746EA#32
  | 72 => 0xBF000000#32
  | 73 => 0x3F3504F3#32
  | 74 => 0x3F5DB3D7#32
  | 75 => 0xBE8483EE#32
  | 76 => 0xBF800000#32
  | 77 => 0xBE8483EE#32
  | 78 => 0x3F5DB3D7#32
  | 79 => 0x3F3504F3#32
  | 80 => 0xBF000000#32
  | 81 => 0xBF7746EA#32
  | 82 => 0xA553C9CA#32
  | 83 => 0x3F7746EA#32
  | 84 => 0x3F000000#32
  | 85 => 0xBF3504F3#32
  | 86 => 0xBF5DB3D7#32
  | 87 => 0x3E8483EE#32
  | 88 => 0x3F800000#32
  | 89 => 0x3E8483EE#32
  | 90 => 0xBF5DB3D7#32
  | 91 => 0xBF3504F3#32
  | 92 => 0x3F000000#32
  | 93 => 0x3F7746EA#32
  | 94 => 0x248D3132#32
  | 95 => 0xBF7746EA#32
  | 96 => 0xBF000000#32
  | 97 => 0x3F3504F3#32
  | 98 => 0x3F5DB3D7#32
  | 99 => 0xBE8483EE#32
  | 100 => 0xBF800000#32
  | 101 => 0xBE8483EE#32
  | 102 => 0x3F5DB3D7#32
  | 103 => 0x3F3504F3#32
  | 104 => 0xBF000000#32
  | 105 => 0xBF7746EA#32
  | 106 => 0xA553C9CA#32
  | 107 => 0x3F7746EA#32
  | 108 => 0x3F000000#32
  | 109 => 0xBF3504F3#32
  | 110 => 0xBF5DB3D7#32
  | 111 => 0x3E8483EE#32
  | 112 => 0x3F800000#32
  | 113 => 0x3E8483EE#32
  | 114 => 0xBF5DB3D7#32
  | 115 => 0xBF3504F3#32
  | 116 => 0x3F000000#32
  | 117 => 0x3F7746EA#32
  | 118 => 0x248D3132#32
  | 119 => 0xBF7746EA#32
  | 120 => 0xBF000000#32
  | 121 => 0x3F3504F3#32
  | 122 => 0x3F5DB3D7#32
  | 123 => 0xBE8483EE#32
  | 124 => 0xBF800000#32
  | 125 => 0xBE8483EE#32
  | 126 => 0x3F5DB3D7#32
  | 127 => 0x3F3504F3#32
  | _ => 0#32

noncomputable abbrev lit0t0_137 (i : Nat) : BitVec 32 := match i % 128 with
  | 0 => 0xBF000000#32
  | 1 => 0xBF7746EA#32
  | 2 => 0xA553C9CA#32
  | 3 => 0x3F7746EA#32
  | 4 => 0x3F000000#32
  | 5 => 0xBF3504F3#32
  | 6 => 0xBF5DB3D7#32
  | 7 => 0x3E8483EE#32
  | 8 => 0x3F800000#32
  | 9 => 0x3E8483EE#32
  | 10 => 0xBF5DB3D7#32
  | 11 => 0xBF3504F3#32
  | 12 => 0x3F000000#32
  | 13 => 0x3F7746EA#32
  | 14 => 0x248D3132#32
  | 15 => 0xBF7746EA#32
  | 16 => 0xBF000000#32
  | 17 => 0x3F3504F3#32
  | 18 => 0x3F5DB3D7#32
  | 19 => 0xBE8483EE#32
  | 20 => 0xBF800000#32
  | 21 => 0xBE8483EE#32
  | 22 => 0x3F5DB3D7#32
  | 23 => 0x3F3504F3#32
  | 24 => 0xBF000000#32
  | 25 => 0xBF7746EA#32
  | 26 => 0xA553C9CA#32
  | 27 => 0x3F7746EA#32
  | 28 => 0x3F000000#32
  | 29 => 0xBF3504F3#32
  | 30 => 0xBF5DB3D7#32
  | 31 => 0x3E8483EE#32
  | 32 => 0x3F800000#32
  | 33 => 0x3E7363EE#32
  | 34 => 0xBF631324#32
  | 35 => 0xBF28CAE3#32
  | 36 => 0x3F12D5E8#32
  | 37 => 0x3F6E9811#32
  | 38 => 0xBE05A8A8#32
  | 39 => 0xBF7E7A7A#32
  | 40 => 0xBEAF1D44#32
  | 41 => 0x3F54DB31#32
  | 42 => 0x3F3CBE35#32
  | 43 => 0xBEF64429#32
  | 44 => 0xBF7746EA#32
  | 45 => 0x3CB2B521#32
  | 46 => 0x3F79EE89#32
  | 47 => 0x3EE273AA#32
  | 48 => 0xBF441B7D#32
  | 49 => 0xBF4E7327#32
  | 50 => 0x3EC3EF15#32
  | 51 => 0x3F7D0543#32
  | 52 => 0x3DB27EB6#32
  | 53 => 0xBF726A03#32
  | 54 => 0xBF098C78#32
  | 55 => 0x3F310700#32
  | 56 => 0x3F5DB3D7#32
  | 57 => 0xBE8F45C0#32
  | 58 => 0xBF7FC1A0#32
  | 59 => 0xBE47C5C2#32
  | 60 => 0x3F6803CA#32
  | 61 => 0x3F203C85#32
  | 62 => 0xBF1BD7CA#32
  | 63 => 0xBF6A51DA#32
  | 64 => 0x3E31D0D4#32
  | 65 => 0x3F7F73AF#32
  | 66 => 0x3E99F61C#32
  | 67 => 0xBF5ADB81#32
  | 68 => 0xBF3504F3#32
  | 69 => 0x3F04CE53#32
  | 70 => 0x3F7426CB#32
  | 71 => 0xBD85F213#32
  | 72 => 0xBF7C1C5C#32
  | 73 => 0xBECE34D0#32
  | 74 => 0x3F4B1934#32
  | 75 => 0x3F47A682#32
  | 76 => 0xBED8616C#32
  | 77 => 0xBF7B14BE#32
  | 78 => 0xBD32AA3E#32
  | 79 => 0x3F75C5D4#32
  | 80 => 0x3F000000#32
  | 81 => 0xBF38ECD8#32
  | 82 => 0xBF57E880#32
  | 83 => 0x3EA493B7#32
  | 84 => 0x3F7F069E#32
  | 85 => 0x3E1BC63C#32
  | 86 => 0xBF6C835E#32
  | 87 => 0xBF176012#32
  | 88 => 0x3F248DBB#32
  | 89 => 0x3F659974#32
  | 90 => 0xBE5DA259#32
  | 91 => 0xBF7FF067#32
  | 92 => 0xBE8483EE#32
  | 93 => 0x3F60712A#32
  | 94 => 0x3F2CF37B#32
  | 95 => 0xBF0E39DA#32
  | 96 => 0xBF708FB2#32
  | 97 => 0x3DDEF599#32
  | 98 => 0x3F7DCF55#32
  | 99 => 0x3EB9917B#32
  | 100 => 0xBF51B3F3#32
  | 101 => 0xBF407893#32
  | 102 => 0x3EEC6A50#32
  | 103 => 0x3F78A9E0#32
  | 104 => 0x248D3132#32
  | 105 => 0xBF78A9E0#32
  | 106 => 0xBEEC6A50#32
  | 107 => 0x3F407893#32
  | 108 => 0x3F51B3F3#32
  | 109 => 0xBEB9917B#32
  | 110 => 0xBF7DCF55#32
  | 111 => 0xBDDEF599#32
  | 112 => 0x3F708FB2#32
  | 113 => 0x3F0E39DA#32
  | 114 => 0xBF2CF37B#32
  | 115 => 0xBF60712A#32
  | 116 => 0x3E8483EE#32
  | 117 => 0x3F7FF067#32
  | 118 => 0x3E5DA259#32
  | 119 => 0xBF659974#32
  | 120 => 0xBF248DBB#32
  | 121 => 0x3F176012#32
  | 122 => 0x3F6C835E#32
  | 123 => 0xBE1BC63C#32
  | 124 => 0xBF7F069E#32
  | 125 => 0xBEA493B7#32
  | 126 => 0x3F57E880#32
  | 127 => 0x3F38ECD8#32
  | _ => 0#32

noncomputable abbrev lit0t0_138 (i : Nat) : BitVec 32 := match i % 128 with
  | 0 => 0xBF000000#32
  | 1 => 0xBF75C5D4#32
  | 2 => 0x3D32AA3E#32
  | 3 => 0x3F7B14BE#32
  | 4 => 0x3ED8616C#32
  | 5 => 0xBF47A682#32
  | 6 => 0xBF4B1934#32
  | 7 => 0x3ECE34D0#32
  | 8 => 0x3F7C1C5C#32
  | 9 => 0x3D85F213#32
  | 10 => 0xBF7426CB#32
  | 11 => 0xBF04CE53#32
  | 12 => 0x3F3504F3#32
  | 13 => 0x3F5ADB81#32
  | 14 => 0xBE99F61C#32
  | 15 => 0xBF7F73AF#32
  | 16 => 0xBE31D0D4#32
  | 17 => 0x3F6A51DA#32
  | 18 => 0x3F1BD7CA#32
  | 19 => 0xBF203C85#32
  | 20 => 0xBF6803CA#32
  | 21 => 0x3E47C5C2#32
  | 22 => 0x3F7FC1A0#32
  | 23 => 0x3E8F45C0#32
  | 24 => 0xBF5DB3D7#32
  | 25 => 0xBF310700#32
  | 26 => 0x3F098C78#32
  | 27 => 0x3F726A03#32
  | 28 => 0xBDB27EB6#32
  | 29 => 0xBF7D0543#32
  | 30 => 0xBEC3EF15#32
  | 31 => 0x3F4E7327#32
  | 32 => 0x3F441B7D#32
  | 33 => 0xBEE273AA#32
  | 34 => 0xBF79EE89#32
  | 35 => 0xBCB2B521#32
  | 36 => 0x3F7746EA#32
  | 37 => 0x3EF64429#32
  | 38 => 0xBF3CBE35#32
  | 39 => 0xBF54DB31#32
  | 40 => 0x3EAF1D44#32
  | 41 => 0x3F7E7A7A#32
  | 42 => 0x3E05A8A8#32
  | 43 => 0xBF6E9811#32
  | 44 => 0xBF12D5E8#32
  | 45 => 0x3F28CAE3#32
  | 46 => 0x3F631324#32
  | 47 => 0xBE7363EE#32
  | 48 => 0xBF800000#32
  | 49 => 0xBE7363EE#32
  | 50 => 0x3F631324#32
  | 51 => 0x3F28CAE3#32
  | 52 => 0xBF12D5E8#32
  | 53 => 0xBF6E9811#32
  | 54 => 0x3E05A8A8#32
  | 55 => 0x3F7E7A7A#32
  | 56 => 0x3EAF1D44#32
  | 57 => 0xBF54DB31#32
  | 58 => 0xBF3CBE35#32
  | 59 => 0x3EF64429#32
  | 60 => 0x3F7746EA#32
  | 61 => 0xBCB2B521#32
  | 62 => 0xBF79EE89#32
  | 63 => 0xBEE273AA#32
  | 64 => 0x3F441B7D#32
  | 65 => 0x3F4E7327#32
  | 66 => 0xBEC3EF15#32
  | 67 => 0xBF7D0543#32
  | 68 => 0xBDB27EB6#32
  | 69 => 0x3F726A03#32
  | 70 => 0x3F098C78#32
  | 71 => 0xBF310700#32
  | 72 => 0xBF5DB3D7#32
  | 73 => 0x3E8F45C0#32
  | 74 => 0x3F7FC1A0#32
  | 75 => 0x3E47C5C2#32
  | 76 => 0xBF6803CA#32
  | 77 => 0xBF203C85#32
  | 78 => 0x3F1BD7CA#32
  | 79 => 0x3F6A51DA#32
  | 80 => 0xBE31D0D4#32
  | 81 => 0xBF7F73AF#32
  | 82 => 0xBE99F61C#32
  | 83 => 0x3F5ADB81#32
  | 84 => 0x3F3504F3#32
  | 85 => 0xBF04CE53#32
  | 86 => 0xBF7426CB#32
  | 87 => 0x3D85F213#32
  | 88 => 0x3F7C1C5C#32
  | 89 => 0x3ECE34D0#32
  | 90 => 0xBF4B1934#32
  | 91 => 0xBF47A682#32
  | 92 => 0x3ED8616C#32
  | 93 => 0x3F7B14BE#32
  | 94 => 0x3D32AA3E#32
  | 95 => 0xBF75C5D4#32
  | 96 => 0xBF000000#32
  | 97 => 0x3F38ECD8#32
  | 98 => 0x3F57E880#32
  | 99 => 0xBEA493B7#32
  | 100 => 0xBF7F069E#32
  | 101 => 0xBE1BC63C#32
  | 102 => 0x3F6C835E#32
  | 103 => 0x3F176012#32
  | 104 => 0xBF248DBB#32
  | 105 => 0xBF659974#32
  | 106 => 0x3E5DA259#32
  | 107 => 0x3F7FF067#32
  | 108 => 0x3E8483EE#32
  | 109 => 0xBF60712A#32
  | 110 => 0xBF2CF37B#32
  | 111 => 0x3F0E39DA#32
  | 112 => 0x3F708FB2#32
  | 113 => 0xBDDEF599#32
  | 114 => 0xBF7DCF55#32
  | 115 => 0xBEB9917B#32
  | 116 => 0x3F51B3F3#32
  | 117 => 0x3F407893#32
  | 118 => 0xBEEC6A50#32
  | 119 => 0xBF78A9E0#32
  | 120 => 0xA553C9CA#32
  | 121 => 0x3F78A9E0#32
  | 122 => 0x3EEC6A50#32
  | 123 => 0xBF407893#32
  | 124 => 0xBF51B3F3#32
  | 125 => 0x3EB9917B#32
  | 126 => 0x3F7DCF55#32
  | 127 => 0x3DDEF599#32
  | _ => 0#32

noncomputable abbrev lit0t0_139 (i : Nat) : BitVec 32 := match i % 128 with
  | 0 => 0xBF708FB2#32
  | 1 => 0xBF0E39DA#32
  | 2 => 0x3F2CF37B#32
  | 3 => 0x3F60712A#32
  | 4 => 0xBE8483EE#32
  | 5 => 0xBF7FF067#32
  | 6 => 0xBE5DA259#32
  | 7 => 0x3F659974#32
  | 8 => 0x3F248DBB#32
  | 9 => 0xBF176012#32
  | 10 => 0xBF6C835E#32
  | 11 => 0x3E1BC63C#32
  | 12 => 0x3F7F069E#32
  | 13 => 0x3EA493B7#32
  | 14 => 0xBF57E880#32
  | 15 => 0xBF38ECD8#32
  | 16 => 0x3F000000#32
  | 17 => 0x3F75C5D4#32
  | 18 => 0xBD32AA3E#32
  | 19 => 0xBF7B14BE#32
  | 20 => 0xBED8616C#32
  | 21 => 0x3F47A682#32
  | 22 => 0x3F4B1934#32
  | 23 => 0xBECE34D0#32
  | 24 => 0xBF7C1C5C#32
  | 25 => 0xBD85F213#32
  | 26 => 0x3F7426CB#32
  | 27 => 0x3F04CE53#32
  | 28 => 0xBF3504F3#32
  | 29 => 0xBF5ADB81#32
  | 30 => 0x3E99F61C#32
  | 31 => 0x3F7F73AF#32
  | 32 => 0x3E31D0D4#32
  | 33 => 0xBF6A51DA#32
  | 34 => 0xBF1BD7CA#32
  | 35 => 0x3F203C85#32
  | 36 => 0x3F6803CA#32
  | 37 => 0xBE47C5C2#32
  | 38 => 0xBF7FC1A0#32
  | 39 => 0xBE8F45C0#32
  | 40 => 0x3F5DB3D7#32
  | 41 => 0x3F310700#32
  | 42 => 0xBF098C78#32
  | 43 => 0xBF726A03#32
  | 44 => 0x3DB27EB6#32
  | 45 => 0x3F7D0543#32
  | 46 => 0x3EC3EF15#32
  | 47 => 0xBF4E7327#32
  | 48 => 0xBF441B7D#32
  | 49 => 0x3EE273AA#32
  | 50 => 0x3F79EE89#32
  | 51 => 0x3CB2B521#32
  | 52 => 0xBF7746EA#32
  | 53 => 0xBEF64429#32
  | 54 => 0x3F3CBE35#32
  | 55 => 0x3F54DB31#32
  | 56 => 0xBEAF1D44#32
  | 57 => 0xBF7E7A7A#32
  | 58 => 0xBE05A8A8#32
  | 59 => 0x3F6E9811#32
  | 60 => 0x3F12D5E8#32
  | 61 => 0xBF28CAE3#32
  | 62 => 0xBF631324#32
  | 63 => 0x3E7363EE#32
  | 64 => 0x3F800000#32
  | 65 => 0x3E5DA259#32
  | 66 => 0xBF6803CA#32
  | 67 => 0xBF1BD7CA#32
  | 68 => 0x3F248DBB#32
  | 69 => 0x3F631324#32
  | 70 => 0xBE8483EE#32
  | 71 => 0xBF7FC1A0#32
  | 72 => 0xBE31D0D4#32
  | 73 => 0x3F6C835E#32
  | 74 => 0x3F12D5E8#32
  | 75 => 0xBF2CF37B#32
  | 76 => 0xBF5DB3D7#32
  | 77 => 0x3E99F61C#32
  | 78 => 0x3F7F069E#32
  | 79 => 0x3E05A8A8#32
  | 80 => 0xBF708FB2#32
  | 81 => 0xBF098C78#32
  | 82 => 0x3F3504F3#32
  | 83 => 0x3F57E880#32
  | 84 => 0xBEAF1D44#32
  | 85 => 0xBF7DCF55#32
  | 86 => 0xBDB27EB6#32
  | 87 => 0x3F7426CB#32
  | 88 => 0x3F000000#32
  | 89 => 0xBF3CBE35#32
  | 90 => 0xBF51B3F3#32
  | 91 => 0x3EC3EF15#32
  | 92 => 0x3F7C1C5C#32
  | 93 => 0x3D32AA3E#32
  | 94 => 0xBF7746EA#32
  | 95 => 0xBEEC6A50#32
  | 96 => 0x3F441B7D#32
  | 97 => 0x3F4B1934#32
  | 98 => 0xBED8616C#32
  | 99 => 0xBF79EE89#32
  | 100 => 0xA553C9CA#32
  | 101 => 0x3F79EE89#32
  | 102 => 0x3ED8616C#32
  | 103 => 0xBF4B1934#32
  | 104 => 0xBF441B7D#32
  | 105 => 0x3EEC6A50#32
  | 106 => 0x3F7746EA#32
  | 107 => 0xBD32AA3E#32
  | 108 => 0xBF7C1C5C#32
  | 109 => 0xBEC3EF15#32
  | 110 => 0x3F51B3F3#32
  | 111 => 0x3F3CBE35#32
  | 112 => 0xBF000000#32
  | 113 => 0xBF7426CB#32
  | 114 => 0x3DB27EB6#32
  | 115 => 0x3F7DCF55#32
  | 116 => 0x3EAF1D44#32
  | 117 => 0xBF57E880#32
  | 118 => 0xBF3504F3#32
  | 119 => 0x3F098C78#32
  | 120 => 0x3F708FB2#32
  | 121 => 0xBE05A8A8#32
  | 122 => 0xBF7F069E#32
  | 123 => 0xBE99F61C#32
  | 124 => 0x3F5DB3D7#32
  | 125 => 0x3F2CF37B#32
  | 126 => 0xBF12D5E8#32
  | 127 => 0xBF6C835E#32
  | _ => 0#32

noncomputable abbrev lit0t0_140 (i : Nat) : BitVec 32 := match i % 128 with
  | 0 => 0x3E31D0D4#32
  | 1 => 0x3F7FC1A0#32
  | 2 => 0x3E8483EE#32
  | 3 => 0xBF631324#32
  | 4 => 0xBF248DBB#32
  | 5 => 0x3F1BD7CA#32
  | 6 => 0x3F6803CA#32
  | 7 => 0xBE5DA259#32
  | 8 => 0xBF800000#32
  | 9 => 0xBE5DA259#32
  | 10 => 0x3F6803CA#32
  | 11 => 0x3F1BD7CA#32
  | 12 => 0xBF248DBB#32
  | 13 => 0xBF631324#32
  | 14 => 0x3E8483EE#32
  | 15 => 0x3F7FC1A0#32
  | 16 => 0x3E31D0D4#32
  | 17 => 0xBF6C835E#32
  | 18 => 0xBF12D5E8#32
  | 19 => 0x3F2CF37B#32
  | 20 => 0x3F5DB3D7#32
  | 21 => 0xBE99F61C#32
  | 22 => 0xBF7F069E#32
  | 23 => 0xBE05A8A8#32
  | 24 => 0x3F708FB2#32
  | 25 => 0x3F098C78#32
  | 26 => 0xBF3504F3#32
  | 27 => 0xBF57E880#32
  | 28 => 0x3EAF1D44#32
  | 29 => 0x3F7DCF55#32
  | 30 => 0x3DB27EB6#32
  | 31 => 0xBF7426CB#32
  | 32 => 0xBF000000#32
  | 33 => 0x3F3CBE35#32
  | 34 => 0x3F51B3F3#32
  | 35 => 0xBEC3EF15#32
  | 36 => 0xBF7C1C5C#32
  | 37 => 0xBD32AA3E#32
  | 38 => 0x3F7746EA#32
  | 39 => 0x3EEC6A50#32
  | 40 => 0xBF441B7D#32
  | 41 => 0xBF4B1934#32
  | 42 => 0x3ED8616C#32
  | 43 => 0x3F79EE89#32
  | 44 => 0x248D3132#32
  | 45 => 0xBF79EE89#32
  | 46 => 0xBED8616C#32
  | 47 => 0x3F4B1934#32
  | 48 => 0x3F441B7D#32
  | 49 => 0xBEEC6A50#32
  | 50 => 0xBF7746EA#32
  | 51 => 0x3D32AA3E#32
  | 52 => 0x3F7C1C5C#32
  | 53 => 0x3EC3EF15#32
  | 54 => 0xBF51B3F3#32
  | 55 => 0xBF3CBE35#32
  | 56 => 0x3F000000#32
  | 57 => 0x3F7426CB#32
  | 58 => 0xBDB27EB6#32
  | 59 => 0xBF7DCF55#32
  | 60 => 0xBEAF1D44#32
  | 61 => 0x3F57E880#32
  | 62 => 0x3F3504F3#32
  | 63 => 0xBF098C78#32
  | 64 => 0xBF708FB2#32
  | 65 => 0x3E05A8A8#32
  | 66 => 0x3F7F069E#32
  | 67 => 0x3E99F61C#32
  | 68 => 0xBF5DB3D7#32
  | 69 => 0xBF2CF37B#32
  | 70 => 0x3F12D5E8#32
  | 71 => 0x3F6C835E#32
  | 72 => 0xBE31D0D4#32
  | 73 => 0xBF7FC1A0#32
  | 74 => 0xBE8483EE#32
  | 75 => 0x3F631324#32
  | 76 => 0x3F248DBB#32
  | 77 => 0xBF1BD7CA#32
  | 78 => 0xBF6803CA#32
  | 79 => 0x3E5DA259#32
  | 80 => 0x3F800000#32
  | 81 => 0x3E5DA259#32
  | 82 => 0xBF6803CA#32
  | 83 => 0xBF1BD7CA#32
  | 84 => 0x3F248DBB#32
  | 85 => 0x3F631324#32
  | 86 => 0xBE8483EE#32
  | 87 => 0xBF7FC1A0#32
  | 88 => 0xBE31D0D4#32
  | 89 => 0x3F6C835E#32
  | 90 => 0x3F12D5E8#32
  | 91 => 0xBF2CF37B#32
  | 92 => 0xBF5DB3D7#32
  | 93 => 0x3E99F61C#32
  | 94 => 0x3F7F069E#32
  | 95 => 0x3E05A8A8#32
  | 96 => 0xBF708FB2#32
  | 97 => 0xBF098C78#32
  | 98 => 0x3F3504F3#32
  | 99 => 0x3F57E880#32
  | 100 => 0xBEAF1D44#32
  | 101 => 0xBF7DCF55#32
  | 102 => 0xBDB27EB6#32
  | 103 => 0x3F7426CB#32
  | 104 => 0x3F000000#32
  | 105 => 0xBF3CBE35#32
  | 106 => 0xBF51B3F3#32
  | 107 => 0x3EC3EF15#32
  | 108 => 0x3F7C1C5C#32
  | 109 => 0x3D32AA3E#32
  | 110 => 0xBF7746EA#32
  | 111 => 0xBEEC6A50#32
  | 112 => 0x3F441B7D#32
  | 113 => 0x3F4B1934#32
  | 114 => 0xBED8616C#32
  | 115 => 0xBF79EE89#32
  | 116 => 0xA553C9CA#32
  | 117 => 0x3F79EE89#32
  | 118 => 0x3ED8616C#32
  | 119 => 0xBF4B1934#32
  | 120 => 0xBF441B7D#32
  | 121 => 0x3EEC6A50#32
  | 122 => 0x3F7746EA#32
  | 123 => 0xBD32AA3E#32
  | 124 => 0xBF7C1C5C#32
  | 125 => 0xBEC3EF15#32
  | 126 => 0x3F51B3F3#32
  | 127 => 0x3F3CBE35#32
  | _ => 0#32

noncomputable abbrev lit0t0_141 (i : Nat) : BitVec 32 := match i % 128 with
  | 0 => 0xBF000000#32
  | 1 => 0xBF7426CB#32
  | 2 => 0x3DB27EB6#32
  | 3 => 0x3F7DCF55#32
  | 4 => 0x3EAF1D44#32
  | 5 => 0xBF57E880#32
  | 6 => 0xBF3504F3#32
  | 7 => 0x3F098C78#32
  | 8 => 0x3F708FB2#32
  | 9 => 0xBE05A8A8#32
  | 10 => 0xBF7F069E#32
  | 11 => 0xBE99F61C#32
  | 12 => 0x3F5DB3D7#32
  | 13 => 0x3F2CF37B#32
  | 14 => 0xBF12D5E8#32
  | 15 => 0xBF6C835E#32
  | 16 => 0x3E31D0D4#32
  | 17 => 0x3F7FC1A0#32
  | 18 => 0x3E8483EE#32
  | 19 => 0xBF631324#32
  | 20 => 0xBF248DBB#32
  | 21 => 0x3F1BD7CA#32
  | 22 => 0x3F6803CA#32
  | 23 => 0xBE5DA259#32
  | 24 => 0xBF800000#32
  | 25 => 0xBE5DA259#32
  | 26 => 0x3F6803CA#32
  | 27 => 0x3F1BD7CA#32
  | 28 => 0xBF248DBB#32
  | 29 => 0xBF631324#32
  | 30 => 0x3E8483EE#32
  | 31 => 0x3F7FC1A0#32
  | 32 => 0x3E31D0D4#32
  | 33 => 0xBF6C835E#32
  | 34 => 0xBF12D5E8#32
  | 35 => 0x3F2CF37B#32
  | 36 => 0x3F5DB3D7#32
  | 37 => 0xBE99F61C#32
  | 38 => 0xBF7F069E#32
  | 39 => 0xBE05A8A8#32
  | 40 => 0x3F708FB2#32
  | 41 => 0x3F098C78#32
  | 42 => 0xBF3504F3#32
  | 43 => 0xBF57E880#32
  | 44 => 0x3EAF1D44#32
  | 45 => 0x3F7DCF55#32
  | 46 => 0x3DB27EB6#32
  | 47 => 0xBF7426CB#32
  | 48 => 0xBF000000#32
  | 49 => 0x3F3CBE35#32
  | 50 => 0x3F51B3F3#32
  | 51 => 0xBEC3EF15#32
  | 52 => 0xBF7C1C5C#32
  | 53 => 0xBD32AA3E#32
  | 54 => 0x3F7746EA#32
  | 55 => 0x3EEC6A50#32
  | 56 => 0xBF441B7D#32
  | 57 => 0xBF4B1934#32
  | 58 => 0x3ED8616C#32
  | 59 => 0x3F79EE89#32
  | 60 => 0x248D3132#32
  | 61 => 0xBF79EE89#32
  | 62 => 0xBED8616C#32
  | 63 => 0x3F4B1934#32
  | 64 => 0x3F441B7D#32
  | 65 => 0xBEEC6A50#32
  | 66 => 0xBF7746EA#32
  | 67 => 0x3D32AA3E#32
  | 68 => 0x3F7C1C5C#32
  | 69 => 0x3EC3EF15#32
  | 70 => 0xBF51B3F3#32
  | 71 => 0xBF3CBE35#32
  | 72 => 0x3F000000#32
  | 73 => 0x3F7426CB#32
  | 74 => 0xBDB27EB6#32
  | 75 => 0xBF7DCF55#32
  | 76 => 0xBEAF1D44#32
  | 77 => 0x3F57E880#32
  | 78 => 0x3F3504F3#32
  | 79 => 0xBF098C78#32
  | 80 => 0xBF708FB2#32
  | 81 => 0x3E05A8A8#32
  | 82 => 0x3F7F069E#32
  | 83 => 0x3E99F61C#32
  | 84 => 0xBF5DB3D7#32
  | 85 => 0xBF2CF37B#32
  | 86 => 0x3F12D5E8#32
  | 87 => 0x3F6C835E#32
  | 88 => 0xBE31D0D4#32
  | 89 => 0xBF7FC1A0#32
  | 90 => 0xBE8483EE#32
  | 91 => 0x3F631324#32
  | 92 => 0x3F248DBB#32
  | 93 => 0xBF1BD7CA#32
  | 94 => 0xBF6803CA#32
  | 95 => 0x3E5DA259#32
  | 96 => 0x3F800000#32
  | 97 => 0x3E47C5C2#32
  | 98 => 0xBF6C835E#32
  | 99 => 0xBF0E39DA#32
  | 100 => 0x3F3504F3#32
  | 101 => 0x3F54DB31#32
  | 102 => 0xBEC3EF15#32
  | 103 => 0xBF7B14BE#32
  | 104 => 0xA553C9CA#32
  | 105 => 0x3F7B14BE#32
  | 106 => 0x3EC3EF15#32
  | 107 => 0xBF54DB31#32
  | 108 => 0xBF3504F3#32
  | 109 => 0x3F0E39DA#32
  | 110 => 0x3F6C835E#32
  | 111 => 0xBE47C5C2#32
  | 112 => 0xBF800000#32
  | 113 => 0xBE47C5C2#32
  | 114 => 0x3F6C835E#32
  | 115 => 0x3F0E39DA#32
  | 116 => 0xBF3504F3#32
  | 117 => 0xBF54DB31#32
  | 118 => 0x3EC3EF15#32
  | 119 => 0x3F7B14BE#32
  | 120 => 0x248D3132#32
  | 121 => 0xBF7B14BE#32
  | 122 => 0xBEC3EF15#32
  | 123 => 0x3F54DB31#32
  | 124 => 0x3F3504F3#32
  | 125 => 0xBF0E39DA#32
  | 126 => 0xBF6C835E#32
  | 127 => 0x3E47C5C2#32
  | _ => 0#32

noncomputable abbrev lit0t0_142 (i : Nat) : BitVec 32 := match i % 128 with
  | 0 => 0x3F800000#32
  | 1 => 0x3E47C5C2#32
  | 2 => 0xBF6C835E#32
  | 3 => 0xBF0E39DA#32
  | 4 => 0x3F3504F3#32
  | 5 => 0x3F54DB31#32
  | 6 => 0xBEC3EF15#32
  | 7 => 0xBF7B14BE#32
  | 8 => 0xA553C9CA#32
  | 9 => 0x3F7B14BE#32
  | 10 => 0x3EC3EF15#32
  | 11 => 0xBF54DB31#32
  | 12 => 0xBF3504F3#32
  | 13 => 0x3F0E39DA#32
  | 14 => 0x3F6C835E#32
  | 15 => 0xBE47C5C2#32
  | 16 => 0xBF800000#32
  | 17 => 0xBE47C5C2#32
  | 18 => 0x3F6C835E#32
  | 19 => 0x3F0E39DA#32
  | 20 => 0xBF3504F3#32
  | 21 => 0xBF54DB31#32
  | 22 => 0x3EC3EF15#32
  | 23 => 0x3F7B14BE#32
  | 24 => 0x248D3132#32
  | 25 => 0xBF7B14BE#32
  | 26 => 0xBEC3EF15#32
  | 27 => 0x3F54DB31#32
  | 28 => 0x3F3504F3#32
  | 29 => 0xBF0E39DA#32
  | 30 => 0xBF6C835E#32
  | 31 => 0x3E47C5C2#32
  | 32 => 0x3F800000#32
  | 33 => 0x3E47C5C2#32
  | 34 => 0xBF6C835E#32
  | 35 => 0xBF0E39DA#32
  | 36 => 0x3F3504F3#32
  | 37 => 0x3F54DB31#32
  | 38 => 0xBEC3EF15#32
  | 39 => 0xBF7B14BE#32
  | 40 => 0xA553C9CA#32
  | 41 => 0x3F7B14BE#32
  | 42 => 0x3EC3EF15#32
  | 43 => 0xBF54DB31#32
  | 44 => 0xBF3504F3#32
  | 45 => 0x3F0E39DA#32
  | 46 => 0x3F6C835E#32
  | 47 => 0xBE47C5C2#32
  | 48 => 0xBF800000#32
  | 49 => 0xBE47C5C2#32
  | 50 => 0x3F6C835E#32
  | 51 => 0x3F0E39DA#32
  | 52 => 0xBF3504F3#32
  | 53 => 0xBF54DB31#32
  | 54 => 0x3EC3EF15#32
  | 55 => 0x3F7B14BE#32
  | 56 => 0x248D3132#32
  | 57 => 0xBF7B14BE#32
  | 58 => 0xBEC3EF15#32
  | 59 => 0x3F54DB31#32
  | 60 => 0x3F3504F3#32
  | 61 => 0xBF0E39DA#32
  | 62 => 0xBF6C835E#32
  | 63 => 0x3E47C5C2#32
  | 64 => 0x3F800000#32
  | 65 => 0x3E47C5C2#32
  | 66 => 0xBF6C835E#32
  | 67 => 0xBF0E39DA#32
  | 68 => 0x3F3504F3#32
  | 69 => 0x3F54DB31#32
  | 70 => 0xBEC3EF15#32
  | 71 => 0xBF7B14BE#32
  | 72 => 0xA553C9CA#32
  | 73 => 0x3F7B14BE#32
  | 74 => 0x3EC3EF15#32
  | 75 => 0xBF54DB31#32
  | 76 => 0xBF3504F3#32
  | 77 => 0x3F0E39DA#32
  | 78 => 0x3F6C835E#32
  | 79 => 0xBE47C5C2#32
  | 80 => 0xBF800000#32
  | 81 => 0xBE47C5C2#32
  | 82 => 0x3F6C835E#32
  | 83 => 0x3F0E39DA#32
  | 84 => 0xBF3504F3#32
  | 85 => 0xBF54DB31#32
  | 86 => 0x3EC3EF15#32
  | 87 => 0x3F7B14BE#32
  | 88 => 0x248D3132#32
  | 89 => 0xBF7B14BE#32
  | 90 => 0xBEC3EF15#32
  | 91 => 0x3F54DB31#32
  | 92 => 0x3F3504F3#32
  | 93 => 0xBF0E39DA#32
  | 94 => 0xBF6C835E#32
  | 95 => 0x3E47C5C2#32
  | 96 => 0x3F800000#32
  | 97 => 0x3E47C5C2#32
  | 98 => 0xBF6C835E#32
  | 99 => 0xBF0E39DA#32
  | 100 => 0x3F3504F3#32
  | 101 => 0x3F54DB31#32
  | 102 => 0xBEC3EF15#32
  | 103 => 0xBF7B14BE#32
  | 104 => 0xA553C9CA#32
  | 105 => 0x3F7B14BE#32
  | 106 => 0x3EC3EF15#32
  | 107 => 0xBF54DB31#32
  | 108 => 0xBF3504F3#32
  | 109 => 0x3F0E39DA#32
  | 110 => 0x3F6C835E#32
  | 111 => 0xBE47C5C2#32
  | 112 => 0xBF800000#32
  | 113 => 0xBE47C5C2#32
  | 114 => 0x3F6C835E#32
  | 115 => 0x3F0E39DA#32
  | 116 => 0xBF3504F3#32
  | 117 => 0xBF54DB31#32
  | 118 => 0x3EC3EF15#32
  | 119 => 0x3F7B14BE#32
  | 120 => 0x248D3132#32
  | 121 => 0xBF7B14BE#32
  | 122 => 0xBEC3EF15#32
  | 123 => 0x3F54DB31#32
  | 124 => 0x3F3504F3#32
  | 125 => 0xBF0E39DA#32
  | 126 => 0xBF6C835E#32
  | 127 => 0x3E47C5C2#32
  | _ => 0#32

noncomputable abbrev lit0t0_143 (i : Nat) : BitVec 32 := match i % 128 with
  | 0 => 0x3F800000#32
  | 1 => 0x3E47C5C2#32
  | 2 => 0xBF6C835E#32
  | 3 => 0xBF0E39DA#32
  | 4 => 0x3F3504F3#32
  | 5 => 0x3F54DB31#32
  | 6 => 0xBEC3EF15#32
  | 7 => 0xBF7B14BE#32
  | 8 => 0xA553C9CA#32
  | 9 => 0x3F7B14BE#32
  | 10 => 0x3EC3EF15#32
  | 11 => 0xBF54DB31#32
  | 12 => 0xBF3504F3#32
  | 13 => 0x3F0E39DA#32
  | 14 => 0x3F6C835E#32
  | 15 => 0xBE47C5C2#32
  | 16 => 0xBF800000#32
  | 17 => 0xBE47C5C2#32
  | 18 => 0x3F6C835E#32
  | 19 => 0x3F0E39DA#32
  | 20 => 0xBF3504F3#32
  | 21 => 0xBF54DB31#32
  | 22 => 0x3EC3EF15#32
  | 23 => 0x3F7B14BE#32
  | 24 => 0x248D3132#32
  | 25 => 0xBF7B14BE#32
  | 26 => 0xBEC3EF15#32
  | 27 => 0x3F54DB31#32
  | 28 => 0x3F3504F3#32
  | 29 => 0xBF0E39DA#32
  | 30 => 0xBF6C835E#32
  | 31 => 0x3E47C5C2#32
  | 32 => 0x3F800000#32
  | 33 => 0x3E47C5C2#32
  | 34 => 0xBF6C835E#32
  | 35 => 0xBF0E39DA#32
  | 36 => 0x3F3504F3#32
  | 37 => 0x3F54DB31#32
  | 38 => 0xBEC3EF15#32
  | 39 => 0xBF7B14BE#32
  | 40 => 0xA553C9CA#32
  | 41 => 0x3F7B14BE#32
  | 42 => 0x3EC3EF15#32
  | 43 => 0xBF54DB31#32
  | 44 => 0xBF3504F3#32
  | 45 => 0x3F0E39DA#32
  | 46 => 0x3F6C835E#32
  | 47 => 0xBE47C5C2#32
  | 48 => 0xBF800000#32
  | 49 => 0xBE47C5C2#32
  | 50 => 0x3F6C835E#32
  | 51 => 0x3F0E39DA#32
  | 52 => 0xBF3504F3#32
  | 53 => 0xBF54DB31#32
  | 54 => 0x3EC3EF15#32
  | 55 => 0x3F7B14BE#32
  | 56 => 0x248D3132#32
  | 57 => 0xBF7B14BE#32
  | 58 => 0xBEC3EF15#32
  | 59 => 0x3F54DB31#32
  | 60 => 0x3F3504F3#32
  | 61 => 0xBF0E39DA#32
  | 62 => 0xBF6C835E#32
  | 63 => 0x3E47C5C2#32
  | 64 => 0x3F800000#32
  | 65 => 0x3E47C5C2#32
  | 66 => 0xBF6C835E#32
  | 67 => 0xBF0E39DA#32
  | 68 => 0x3F3504F3#32
  | 69 => 0x3F54DB31#32
  | 70 => 0xBEC3EF15#32
  | 71 => 0xBF7B14BE#32
  | 72 => 0xA553C9CA#32
  | 73 => 0x3F7B14BE#32
  | 74 => 0x3EC3EF15#32
  | 75 => 0xBF54DB31#32
  | 76 => 0xBF3504F3#32
  | 77 => 0x3F0E39DA#32
  | 78 => 0x3F6C835E#32
  | 79 => 0xBE47C5C2#32
  | 80 => 0xBF800000#32
  | 81 => 0xBE47C5C2#32
  | 82 => 0x3F6C835E#32
  | 83 => 0x3F0E39DA#32
  | 84 => 0xBF3504F3#32
  | 85 => 0xBF54DB31#32
  | 86 => 0x3EC3EF15#32
  | 87 => 0x3F7B14BE#32
  | 88 => 0x248D3132#32
  | 89 => 0xBF7B14BE#32
  | 90 => 0xBEC3EF15#32
  | 91 => 0x3F54DB31#32
  | 92 => 0x3F3504F3#32
  | 93 => 0xBF0E39DA#32
  | 94 => 0xBF6C835E#32
  | 95 => 0x3E47C5C2#32
  | 96 => 0x3F800000#32
  | 97 => 0x3E47C5C2#32
  | 98 => 0xBF6C835E#32
  | 99 => 0xBF0E39DA#32
  | 100 => 0x3F3504F3#32
  | 101 => 0x3F54DB31#32
  | 102 => 0xBEC3EF15#32
  | 103 => 0xBF7B14BE#32
  | 104 => 0xA553C9CA#32
  | 105 => 0x3F7B14BE#32
  | 106 => 0x3EC3EF15#32
  | 107 => 0xBF54DB31#32
  | 108 => 0xBF3504F3#32
  | 109 => 0x3F0E39DA#32
  | 110 => 0x3F6C835E#32
  | 111 => 0xBE47C5C2#32
  | 112 => 0xBF800000#32
  | 113 => 0xBE47C5C2#32
  | 114 => 0x3F6C835E#32
  | 115 => 0x3F0E39DA#32
  | 116 => 0xBF3504F3#32
  | 117 => 0xBF54DB31#32
  | 118 => 0x3EC3EF15#32
  | 119 => 0x3F7B14BE#32
  | 120 => 0x248D3132#32
  | 121 => 0xBF7B14BE#32
  | 122 => 0xBEC3EF15#32
  | 123 => 0x3F54DB31#32
  | 124 => 0x3F3504F3#32
  | 125 => 0xBF0E39DA#32
  | 126 => 0xBF6C835E#32
  | 127 => 0x3E47C5C2#32
  | _ => 0#32

noncomputable abbrev lit0t0_144 (i : Nat) : BitVec 32 := match i % 128 with
  | 0 => 0x3F800000#32
  | 1 => 0x3E31D0D4#32
  | 2 => 0xBF708FB2#32
  | 3 => 0xBF000000#32
  | 4 => 0x3F441B7D#32
  | 5 => 0x3F441B7D#32
  | 6 => 0xBF000000#32
  | 7 => 0xBF708FB2#32
  | 8 => 0x3E31D0D4#32
  | 9 => 0x3F800000#32
  | 10 => 0x3E31D0D4#32
  | 11 => 0xBF708FB2#32
  | 12 => 0xBF000000#32
  | 13 => 0x3F441B7D#32
  | 14 => 0x3F441B7D#32
  | 15 => 0xBF000000#32
  | 16 => 0xBF708FB2#32
  | 17 => 0x3E31D0D4#32
  | 18 => 0x3F800000#32
  | 19 => 0x3E31D0D4#32
  | 20 => 0xBF708FB2#32
  | 21 => 0xBF000000#32
  | 22 => 0x3F441B7D#32
  | 23 => 0x3F441B7D#32
  | 24 => 0xBF000000#32
  | 25 => 0xBF708FB2#32
  | 26 => 0x3E31D0D4#32
  | 27 => 0x3F800000#32
  | 28 => 0x3E31D0D4#32
  | 29 => 0xBF708FB2#32
  | 30 => 0xBF000000#32
  | 31 => 0x3F441B7D#32
  | 32 => 0x3F441B7D#32
  | 33 => 0xBF000000#32
  | 34 => 0xBF708FB2#32
  | 35 => 0x3E31D0D4#32
  | 36 => 0x3F800000#32
  | 37 => 0x3E31D0D4#32
  | 38 => 0xBF708FB2#32
  | 39 => 0xBF000000#32
  | 40 => 0x3F441B7D#32
  | 41 => 0x3F441B7D#32
  | 42 => 0xBF000000#32
  | 43 => 0xBF708FB2#32
  | 44 => 0x3E31D0D4#32
  | 45 => 0x3F800000#32
  | 46 => 0x3E31D0D4#32
  | 47 => 0xBF708FB2#32
  | 48 => 0xBF000000#32
  | 49 => 0x3F441B7D#32
  | 50 => 0x3F441B7D#32
  | 51 => 0xBF000000#32
  | 52 => 0xBF708FB2#32
  | 53 => 0x3E31D0D4#32
  | 54 => 0x3F800000#32
  | 55 => 0x3E31D0D4#32
  | 56 => 0xBF708FB2#32
  | 57 => 0xBF000000#32
  | 58 => 0x3F441B7D#32
  | 59 => 0x3F441B7D#32
  | 60 => 0xBF000000#32
  | 61 => 0xBF708FB2#32
  | 62 => 0x3E31D0D4#32
  | 63 => 0x3F800000#32
  | 64 => 0x3E31D0D4#32
  | 65 => 0xBF708FB2#32
  | 66 => 0xBF000000#32
  | 67 => 0x3F441B7D#32
  | 68 => 0x3F441B7D#32
  | 69 => 0xBF000000#32
  | 70 => 0xBF708FB2#32
  | 71 => 0x3E31D0D4#32
  | 72 => 0x3F800000#32
  | 73 => 0x3E31D0D4#32
  | 74 => 0xBF708FB2#32
  | 75 => 0xBF000000#32
  | 76 => 0x3F441B7D#32
  | 77 => 0x3F441B7D#32
  | 78 => 0xBF000000#32
  | 79 => 0xBF708FB2#32
  | 80 => 0x3E31D0D4#32
  | 81 => 0x3F800000#32
  | 82 => 0x3E31D0D4#32
  | 83 => 0xBF708FB2#32
  | 84 => 0xBF000000#32
  | 85 => 0x3F441B7D#32
  | 86 => 0x3F441B7D#32
  | 87 => 0xBF000000#32
  | 88 => 0xBF708FB2#32
  | 89 => 0x3E31D0D4#32
  | 90 => 0x3F800000#32
  | 91 => 0x3E31D0D4#32
  | 92 => 0xBF708FB2#32
  | 93 => 0xBF000000#32
  | 94 => 0x3F441B7D#32
  | 95 => 0x3F441B7D#32
  | 96 => 0xBF000000#32
  | 97 => 0xBF708FB2#32
  | 98 => 0x3E31D0D4#32
  | 99 => 0x3F800000#32
  | 100 => 0x3E31D0D4#32
  | 101 => 0xBF708FB2#32
  | 102 => 0xBF000000#32
  | 103 => 0x3F441B7D#32
  | 104 => 0x3F441B7D#32
  | 105 => 0xBF000000#32
  | 106 => 0xBF708FB2#32
  | 107 => 0x3E31D0D4#32
  | 108 => 0x3F800000#32
  | 109 => 0x3E31D0D4#32
  | 110 => 0xBF708FB2#32
  | 111 => 0xBF000000#32
  | 112 => 0x3F441B7D#32
  | 113 => 0x3F441B7D#32
  | 114 => 0xBF000000#32
  | 115 => 0xBF708FB2#32
  | 116 => 0x3E31D0D4#32
  | 117 => 0x3F800000#32
  | 118 => 0x3E31D0D4#32
  | 119 => 0xBF708FB2#32
  | 120 => 0xBF000000#32
  | 121 => 0x3F441B7D#32
  | 122 => 0x3F441B7D#32
  | 123 => 0xBF000000#32
  | 124 => 0xBF708FB2#32
  | 125 => 0x3E31D0D4#32
  | 126 => 0x3F800000#32
  | 127 => 0x3E31D0D4#32
  | _ => 0#32

noncomputable abbrev lit0t0_145 (i : Nat) : BitVec 32 := match i % 128 with
  | 0 => 0xBF708FB2#32
  | 1 => 0xBF000000#32
  | 2 => 0x3F441B7D#32
  | 3 => 0x3F441B7D#32
  | 4 => 0xBF000000#32
  | 5 => 0xBF708FB2#32
  | 6 => 0x3E31D0D4#32
  | 7 => 0x3F800000#32
  | 8 => 0x3E31D0D4#32
  | 9 => 0xBF708FB2#32
  | 10 => 0xBF000000#32
  | 11 => 0x3F441B7D#32
  | 12 => 0x3F441B7D#32
  | 13 => 0xBF000000#32
  | 14 => 0xBF708FB2#32
  | 15 => 0x3E31D0D4#32
  | 16 => 0x3F800000#32
  | 17 => 0x3E31D0D4#32
  | 18 => 0xBF708FB2#32
  | 19 => 0xBF000000#32
  | 20 => 0x3F441B7D#32
  | 21 => 0x3F441B7D#32
  | 22 => 0xBF000000#32
  | 23 => 0xBF708FB2#32
  | 24 => 0x3E31D0D4#32
  | 25 => 0x3F800000#32
  | 26 => 0x3E31D0D4#32
  | 27 => 0xBF708FB2#32
  | 28 => 0xBF000000#32
  | 29 => 0x3F441B7D#32
  | 30 => 0x3F441B7D#32
  | 31 => 0xBF000000#32
  | 32 => 0xBF708FB2#32
  | 33 => 0x3E31D0D4#32
  | 34 => 0x3F800000#32
  | 35 => 0x3E31D0D4#32
  | 36 => 0xBF708FB2#32
  | 37 => 0xBF000000#32
  | 38 => 0x3F441B7D#32
  | 39 => 0x3F441B7D#32
  | 40 => 0xBF000000#32
  | 41 => 0xBF708FB2#32
  | 42 => 0x3E31D0D4#32
  | 43 => 0x3F800000#32
  | 44 => 0x3E31D0D4#32
  | 45 => 0xBF708FB2#32
  | 46 => 0xBF000000#32
  | 47 => 0x3F441B7D#32
  | 48 => 0x3F441B7D#32
  | 49 => 0xBF000000#32
  | 50 => 0xBF708FB2#32
  | 51 => 0x3E31D0D4#32
  | 52 => 0x3F800000#32
  | 53 => 0x3E31D0D4#32
  | 54 => 0xBF708FB2#32
  | 55 => 0xBF000000#32
  | 56 => 0x3F441B7D#32
  | 57 => 0x3F441B7D#32
  | 58 => 0xBF000000#32
  | 59 => 0xBF708FB2#32
  | 60 => 0x3E31D0D4#32
  | 61 => 0x3F800000#32
  | 62 => 0x3E31D0D4#32
  | 63 => 0xBF708FB2#32
  | 64 => 0xBF000000#32
  | 65 => 0x3F441B7D#32
  | 66 => 0x3F441B7D#32
  | 67 => 0xBF000000#32
  | 68 => 0xBF708FB2#32
  | 69 => 0x3E31D0D4#32
  | 70 => 0x3F800000#32
  | 71 => 0x3E31D0D4#32
  | 72 => 0xBF708FB2#32
  | 73 => 0xBF000000#32
  | 74 => 0x3F441B7D#32
  | 75 => 0x3F441B7D#32
  | 76 => 0xBF000000#32
  | 77 => 0xBF708FB2#32
  | 78 => 0x3E31D0D4#32
  | 79 => 0x3F800000#32
  | 80 => 0x3E31D0D4#32
  | 81 => 0xBF708FB2#32
  | 82 => 0xBF000000#32
  | 83 => 0x3F441B7D#32
  | 84 => 0x3F441B7D#32
  | 85 => 0xBF000000#32
  | 86 => 0xBF708FB2#32
  | 87 => 0x3E31D0D4#32
  | 88 => 0x3F800000#32
  | 89 => 0x3E31D0D4#32
  | 90 => 0xBF708FB2#32
  | 91 => 0xBF000000#32
  | 92 => 0x3F441B7D#32
  | 93 => 0x3F441B7D#32
  | 94 => 0xBF000000#32
  | 95 => 0xBF708FB2#32
  | 96 => 0x3E31D0D4#32
  | 97 => 0x3F800000#32
  | 98 => 0x3E31D0D4#32
  | 99 => 0xBF708FB2#32
  | 100 => 0xBF000000#32
  | 101 => 0x3F441B7D#32
  | 102 => 0x3F441B7D#32
  | 103 => 0xBF000000#32
  | 104 => 0xBF708FB2#32
  | 105 => 0x3E31D0D4#32
  | 106 => 0x3F800000#32
  | 107 => 0x3E31D0D4#32
  | 108 => 0xBF708FB2#32
  | 109 => 0xBF000000#32
  | 110 => 0x3F441B7D#32
  | 111 => 0x3F441B7D#32
  | 112 => 0xBF000000#32
  | 113 => 0xBF708FB2#32
  | 114 => 0x3E31D0D4#32
  | 115 => 0x3F800000#32
  | 116 => 0x3E31D0D4#32
  | 117 => 0xBF708FB2#32
  | 118 => 0xBF000000#32
  | 119 => 0x3F441B7D#32
  | 120 => 0x3F441B7D#32
  | 121 => 0xBF000000#32
  | 122 => 0xBF708FB2#32
  | 123 => 0x3E31D0D4#32
  | 124 => 0x3F800000#32
  | 125 => 0x3E31D0D4#32
  | 126 => 0xBF708FB2#32
  | 127 => 0xBF000000#32
  | _ => 0#32

noncomputable abbrev lit0t0_146 (i : Nat) : BitVec 32 := match i % 128 with
  | 0 => 0x3F441B7D#32
  | 1 => 0x3F441B7D#32
  | 2 => 0xBF000000#32
  | 3 => 0xBF708FB2#32
  | 4 => 0x3E31D0D4#32
  | 5 => 0x3F800000#32
  | 6 => 0x3E31D0D4#32
  | 7 => 0xBF708FB2#32
  | 8 => 0xBF000000#32
  | 9 => 0x3F441B7D#32
  | 10 => 0x3F441B7D#32
  | 11 => 0xBF000000#32
  | 12 => 0xBF708FB2#32
  | 13 => 0x3E31D0D4#32
  | 14 => 0x3F800000#32
  | 15 => 0x3E31D0D4#32
  | 16 => 0xBF708FB2#32
  | 17 => 0xBF000000#32
  | 18 => 0x3F441B7D#32
  | 19 => 0x3F441B7D#32
  | 20 => 0xBF000000#32
  | 21 => 0xBF708FB2#32
  | 22 => 0x3E31D0D4#32
  | 23 => 0x3F800000#32
  | 24 => 0x3E31D0D4#32
  | 25 => 0xBF708FB2#32
  | 26 => 0xBF000000#32
  | 27 => 0x3F441B7D#32
  | 28 => 0x3F441B7D#32
  | 29 => 0xBF000000#32
  | 30 => 0xBF708FB2#32
  | 31 => 0x3E31D0D4#32
  | 32 => 0x3F800000#32
  | 33 => 0x3E1BC63C#32
  | 34 => 0xBF7426CB#32
  | 35 => 0xBEE273AA#32
  | 36 => 0x3F51B3F3#32
  | 37 => 0x3F310700#32
  | 38 => 0xBF1BD7CA#32
  | 39 => 0xBF60712A#32
  | 40 => 0x3EAF1D44#32
  | 41 => 0x3F7B14BE#32
  | 42 => 0xBD32AA3E#32
  | 43 => 0xBF7E7A7A#32
  | 44 => 0xBE8483EE#32
  | 45 => 0x3F6A51DA#32
  | 46 => 0x3F098C78#32
  | 47 => 0xBF407893#32
  | 48 => 0xBF441B7D#32
  | 49 => 0x3F04CE53#32
  | 50 => 0x3F6C835E#32
  | 51 => 0xBE7363EE#32
  | 52 => 0xBF7F069E#32
  | 53 => 0xBD85F213#32
  | 54 => 0x3F79EE89#32
  | 55 => 0x3EB9917B#32
  | 56 => 0xBF5DB3D7#32
  | 57 => 0xBF203C85#32
  | 58 => 0x3F2CF37B#32
  | 59 => 0x3F54DB31#32
  | 60 => 0xBED8616C#32
  | 61 => 0xBF75C5D4#32
  | 62 => 0x3E05A8A8#32
  | 63 => 0x3F7FF067#32
  | 64 => 0x3E31D0D4#32
  | 65 => 0xBF726A03#32
  | 66 => 0xBEEC6A50#32
  | 67 => 0x3F4E7327#32
  | 68 => 0x3F3504F3#32
  | 69 => 0xBF176012#32
  | 70 => 0xBF631324#32
  | 71 => 0x3EA493B7#32
  | 72 => 0x3F7C1C5C#32
  | 73 => 0xBCB2B521#32
  | 74 => 0xBF7DCF55#32
  | 75 => 0xBE8F45C0#32
  | 76 => 0x3F6803CA#32
  | 77 => 0x3F0E39DA#32
  | 78 => 0xBF3CBE35#32
  | 79 => 0xBF47A682#32
  | 80 => 0x3F000000#32
  | 81 => 0x3F6E9811#32
  | 82 => 0xBE5DA259#32
  | 83 => 0xBF7F73AF#32
  | 84 => 0xBDB27EB6#32
  | 85 => 0x3F78A9E0#32
  | 86 => 0x3EC3EF15#32
  | 87 => 0xBF5ADB81#32
  | 88 => 0xBF248DBB#32
  | 89 => 0x3F28CAE3#32
  | 90 => 0x3F57E880#32
  | 91 => 0xBECE34D0#32
  | 92 => 0xBF7746EA#32
  | 93 => 0x3DDEF599#32
  | 94 => 0x3F7FC1A0#32
  | 95 => 0x3E47C5C2#32
  | 96 => 0xBF708FB2#32
  | 97 => 0xBEF64429#32
  | 98 => 0x3F4B1934#32
  | 99 => 0x3F38ECD8#32
  | 100 => 0xBF12D5E8#32
  | 101 => 0xBF659974#32
  | 102 => 0x3E99F61C#32
  | 103 => 0x3F7D0543#32
  | 104 => 0x248D3132#32
  | 105 => 0xBF7D0543#32
  | 106 => 0xBE99F61C#32
  | 107 => 0x3F659974#32
  | 108 => 0x3F12D5E8#32
  | 109 => 0xBF38ECD8#32
  | 110 => 0xBF4B1934#32
  | 111 => 0x3EF64429#32
  | 112 => 0x3F708FB2#32
  | 113 => 0xBE47C5C2#32
  | 114 => 0xBF7FC1A0#32
  | 115 => 0xBDDEF599#32
  | 116 => 0x3F7746EA#32
  | 117 => 0x3ECE34D0#32
  | 118 => 0xBF57E880#32
  | 119 => 0xBF28CAE3#32
  | 120 => 0x3F248DBB#32
  | 121 => 0x3F5ADB81#32
  | 122 => 0xBEC3EF15#32
  | 123 => 0xBF78A9E0#32
  | 124 => 0x3DB27EB6#32
  | 125 => 0x3F7F73AF#32
  | 126 => 0x3E5DA259#32
  | 127 => 0xBF6E9811#32
  | _ => 0#32

noncomputable abbrev lit0t0_147 (i : Nat) : BitVec 32 := match i % 128 with
  | 0 => 0xBF000000#32
  | 1 => 0x3F47A682#32
  | 2 => 0x3F3CBE35#32
  | 3 => 0xBF0E39DA#32
  | 4 => 0xBF6803CA#32
  | 5 => 0x3E8F45C0#32
  | 6 => 0x3F7DCF55#32
  | 7 => 0x3CB2B521#32
  | 8 => 0xBF7C1C5C#32
  | 9 => 0xBEA493B7#32
  | 10 => 0x3F631324#32
  | 11 => 0x3F176012#32
  | 12 => 0xBF3504F3#32
  | 13 => 0xBF4E7327#32
  | 14 => 0x3EEC6A50#32
  | 15 => 0x3F726A03#32
  | 16 => 0xBE31D0D4#32
  | 17 => 0xBF7FF067#32
  | 18 => 0xBE05A8A8#32
  | 19 => 0x3F75C5D4#32
  | 20 => 0x3ED8616C#32
  | 21 => 0xBF54DB31#32
  | 22 => 0xBF2CF37B#32
  | 23 => 0x3F203C85#32
  | 24 => 0x3F5DB3D7#32
  | 25 => 0xBEB9917B#32
  | 26 => 0xBF79EE89#32
  | 27 => 0x3D85F213#32
  | 28 => 0x3F7F069E#32
  | 29 => 0x3E7363EE#32
  | 30 => 0xBF6C835E#32
  | 31 => 0xBF04CE53#32
  | 32 => 0x3F441B7D#32
  | 33 => 0x3F407893#32
  | 34 => 0xBF098C78#32
  | 35 => 0xBF6A51DA#32
  | 36 => 0x3E8483EE#32
  | 37 => 0x3F7E7A7A#32
  | 38 => 0x3D32AA3E#32
  | 39 => 0xBF7B14BE#32
  | 40 => 0xBEAF1D44#32
  | 41 => 0x3F60712A#32
  | 42 => 0x3F1BD7CA#32
  | 43 => 0xBF310700#32
  | 44 => 0xBF51B3F3#32
  | 45 => 0x3EE273AA#32
  | 46 => 0x3F7426CB#32
  | 47 => 0xBE1BC63C#32
  | 48 => 0xBF800000#32
  | 49 => 0xBE1BC63C#32
  | 50 => 0x3F7426CB#32
  | 51 => 0x3EE273AA#32
  | 52 => 0xBF51B3F3#32
  | 53 => 0xBF310700#32
  | 54 => 0x3F1BD7CA#32
  | 55 => 0x3F60712A#32
  | 56 => 0xBEAF1D44#32
  | 57 => 0xBF7B14BE#32
  | 58 => 0x3D32AA3E#32
  | 59 => 0x3F7E7A7A#32
  | 60 => 0x3E8483EE#32
  | 61 => 0xBF6A51DA#32
  | 62 => 0xBF098C78#32
  | 63 => 0x3F407893#32
  | 64 => 0x3F441B7D#32
  | 65 => 0xBF04CE53#32
  | 66 => 0xBF6C835E#32
  | 67 => 0x3E7363EE#32
  | 68 => 0x3F7F069E#32
  | 69 => 0x3D85F213#32
  | 70 => 0xBF79EE89#32
  | 71 => 0xBEB9917B#32
  | 72 => 0x3F5DB3D7#32
  | 73 => 0x3F203C85#32
  | 74 => 0xBF2CF37B#32
  | 75 => 0xBF54DB31#32
  | 76 => 0x3ED8616C#32
  | 77 => 0x3F75C5D4#32
  | 78 => 0xBE05A8A8#32
  | 79 => 0xBF7FF067#32
  | 80 => 0xBE31D0D4#32
  | 81 => 0x3F726A03#32
  | 82 => 0x3EEC6A50#32
  | 83 => 0xBF4E7327#32
  | 84 => 0xBF3504F3#32
  | 85 => 0x3F176012#32
  | 86 => 0x3F631324#32
  | 87 => 0xBEA493B7#32
  | 88 => 0xBF7C1C5C#32
  | 89 => 0x3CB2B521#32
  | 90 => 0x3F7DCF55#32
  | 91 => 0x3E8F45C0#32
  | 92 => 0xBF6803CA#32
  | 93 => 0xBF0E39DA#32
  | 94 => 0x3F3CBE35#32
  | 95 => 0x3F47A682#32
  | 96 => 0xBF000000#32
  | 97 => 0xBF6E9811#32
  | 98 => 0x3E5DA259#32
  | 99 => 0x3F7F73AF#32
  | 100 => 0x3DB27EB6#32
  | 101 => 0xBF78A9E0#32
  | 102 => 0xBEC3EF15#32
  | 103 => 0x3F5ADB81#32
  | 104 => 0x3F248DBB#32
  | 105 => 0xBF28CAE3#32
  | 106 => 0xBF57E880#32
  | 107 => 0x3ECE34D0#32
  | 108 => 0x3F7746EA#32
  | 109 => 0xBDDEF599#32
  | 110 => 0xBF7FC1A0#32
  | 111 => 0xBE47C5C2#32
  | 112 => 0x3F708FB2#32
  | 113 => 0x3EF64429#32
  | 114 => 0xBF4B1934#32
  | 115 => 0xBF38ECD8#32
  | 116 => 0x3F12D5E8#32
  | 117 => 0x3F659974#32
  | 118 => 0xBE99F61C#32
  | 119 => 0xBF7D0543#32
  | 120 => 0xA553C9CA#32
  | 121 => 0x3F7D0543#32
  | 122 => 0x3E99F61C#32
  | 123 => 0xBF659974#32
  | 124 => 0xBF12D5E8#32
  | 125 => 0x3F38ECD8#32
  | 126 => 0x3F4B1934#32
  | 127 => 0xBEF64429#32
  | _ => 0#32

noncomputable abbrev lit0t0_148 (i : Nat) : BitVec 32 := match i % 128 with
  | 0 => 0xBF708FB2#32
  | 1 => 0x3E47C5C2#32
  | 2 => 0x3F7FC1A0#32
  | 3 => 0x3DDEF599#32
  | 4 => 0xBF7746EA#32
  | 5 => 0xBECE34D0#32
  | 6 => 0x3F57E880#32
  | 7 => 0x3F28CAE3#32
  | 8 => 0xBF248DBB#32
  | 9 => 0xBF5ADB81#32
  | 10 => 0x3EC3EF15#32
  | 11 => 0x3F78A9E0#32
  | 12 => 0xBDB27EB6#32
  | 13 => 0xBF7F73AF#32
  | 14 => 0xBE5DA259#32
  | 15 => 0x3F6E9811#32
  | 16 => 0x3F000000#32
  | 17 => 0xBF47A682#32
  | 18 => 0xBF3CBE35#32
  | 19 => 0x3F0E39DA#32
  | 20 => 0x3F6803CA#32
  | 21 => 0xBE8F45C0#32
  | 22 => 0xBF7DCF55#32
  | 23 => 0xBCB2B521#32
  | 24 => 0x3F7C1C5C#32
  | 25 => 0x3EA493B7#32
  | 26 => 0xBF631324#32
  | 27 => 0xBF176012#32
  | 28 => 0x3F3504F3#32
  | 29 => 0x3F4E7327#32
  | 30 => 0xBEEC6A50#32
  | 31 => 0xBF726A03#32
  | 32 => 0x3E31D0D4#32
  | 33 => 0x3F7FF067#32
  | 34 => 0x3E05A8A8#32
  | 35 => 0xBF75C5D4#32
  | 36 => 0xBED8616C#32
  | 37 => 0x3F54DB31#32
  | 38 => 0x3F2CF37B#32
  | 39 => 0xBF203C85#32
  | 40 => 0xBF5DB3D7#32
  | 41 => 0x3EB9917B#32
  | 42 => 0x3F79EE89#32
  | 43 => 0xBD85F213#32
  | 44 => 0xBF7F069E#32
  | 45 => 0xBE7363EE#32
  | 46 => 0x3F6C835E#32
  | 47 => 0x3F04CE53#32
  | 48 => 0xBF441B7D#32
  | 49 => 0xBF407893#32
  | 50 => 0x3F098C78#32
  | 51 => 0x3F6A51DA#32
  | 52 => 0xBE8483EE#32
  | 53 => 0xBF7E7A7A#32
  | 54 => 0xBD32AA3E#32
  | 55 => 0x3F7B14BE#32
  | 56 => 0x3EAF1D44#32
  | 57 => 0xBF60712A#32
  | 58 => 0xBF1BD7CA#32
  | 59 => 0x3F310700#32
  | 60 => 0x3F51B3F3#32
  | 61 => 0xBEE273AA#32
  | 62 => 0xBF7426CB#32
  | 63 => 0x3E1BC63C#32
  | 64 => 0x3F800000#32
  | 65 => 0x3E05A8A8#32
  | 66 => 0xBF7746EA#32
  | 67 => 0xBEC3EF15#32
  | 68 => 0x3F5DB3D7#32
  | 69 => 0x3F1BD7CA#32
  | 70 => 0xBF3504F3#32
  | 71 => 0xBF4B1934#32
  | 72 => 0x3F000000#32
  | 73 => 0x3F6C835E#32
  | 74 => 0xBE8483EE#32
  | 75 => 0xBF7DCF55#32
  | 76 => 0xA553C9CA#32
  | 77 => 0x3F7DCF55#32
  | 78 => 0x3E8483EE#32
  | 79 => 0xBF6C835E#32
  | 80 => 0xBF000000#32
  | 81 => 0x3F4B1934#32
  | 82 => 0x3F3504F3#32
  | 83 => 0xBF1BD7CA#32
  | 84 => 0xBF5DB3D7#32
  | 85 => 0x3EC3EF15#32
  | 86 => 0x3F7746EA#32
  | 87 => 0xBE05A8A8#32
  | 88 => 0xBF800000#32
  | 89 => 0xBE05A8A8#32
  | 90 => 0x3F7746EA#32
  | 91 => 0x3EC3EF15#32
  | 92 => 0xBF5DB3D7#32
  | 93 => 0xBF1BD7CA#32
  | 94 => 0x3F3504F3#32
  | 95 => 0x3F4B1934#32
  | 96 => 0xBF000000#32
  | 97 => 0xBF6C835E#32
  | 98 => 0x3E8483EE#32
  | 99 => 0x3F7DCF55#32
  | 100 => 0x248D3132#32
  | 101 => 0xBF7DCF55#32
  | 102 => 0xBE8483EE#32
  | 103 => 0x3F6C835E#32
  | 104 => 0x3F000000#32
  | 105 => 0xBF4B1934#32
  | 106 => 0xBF3504F3#32
  | 107 => 0x3F1BD7CA#32
  | 108 => 0x3F5DB3D7#32
  | 109 => 0xBEC3EF15#32
  | 110 => 0xBF7746EA#32
  | 111 => 0x3E05A8A8#32
  | 112 => 0x3F800000#32
  | 113 => 0x3E05A8A8#32
  | 114 => 0xBF7746EA#32
  | 115 => 0xBEC3EF15#32
  | 116 => 0x3F5DB3D7#32
  | 117 => 0x3F1BD7CA#32
  | 118 => 0xBF3504F3#32
  | 119 => 0xBF4B1934#32
  | 120 => 0x3F000000#32
  | 121 => 0x3F6C835E#32
  | 122 => 0xBE8483EE#32
  | 123 => 0xBF7DCF55#32
  | 124 => 0xA553C9CA#32
  | 125 => 0x3F7DCF55#32
  | 126 => 0x3E8483EE#32
  | 127 => 0xBF6C835E#32
  | _ => 0#32

noncomputable abbrev lit0t0_149 (i : Nat) : BitVec 32 := match i % 128 with
  | 0 => 0xBF000000#32
  | 1 => 0x3F4B1934#32
  | 2 => 0x3F3504F3#32
  | 3 => 0xBF1BD7CA#32
  | 4 => 0xBF5DB3D7#32
  | 5 => 0x3EC3EF15#32
  | 6 => 0x3F7746EA#32
  | 7 => 0xBE05A8A8#32
  | 8 => 0xBF800000#32
  | 9 => 0xBE05A8A8#32
  | 10 => 0x3F7746EA#32
  | 11 => 0x3EC3EF15#32
  | 12 => 0xBF5DB3D7#32
  | 13 => 0xBF1BD7CA#32
  | 14 => 0x3F3504F3#32
  | 15 => 0x3F4B1934#32
  | 16 => 0xBF000000#32
  | 17 => 0xBF6C835E#32
  | 18 => 0x3E8483EE#32
  | 19 => 0x3F7DCF55#32
  | 20 => 0x248D3132#32
  | 21 => 0xBF7DCF55#32
  | 22 => 0xBE8483EE#32
  | 23 => 0x3F6C835E#32
  | 24 => 0x3F000000#32
  | 25 => 0xBF4B1934#32
  | 26 => 0xBF3504F3#32
  | 27 => 0x3F1BD7CA#32
  | 28 => 0x3F5DB3D7#32
  | 29 => 0xBEC3EF15#32
  | 30 => 0xBF7746EA#32
  | 31 => 0x3E05A8A8#32
  | 32 => 0x3F800000#32
  | 33 => 0x3E05A8A8#32
  | 34 => 0xBF7746EA#32
  | 35 => 0xBEC3EF15#32
  | 36 => 0x3F5DB3D7#32
  | 37 => 0x3F1BD7CA#32
  | 38 => 0xBF3504F3#32
  | 39 => 0xBF4B1934#32
  | 40 => 0x3F000000#32
  | 41 => 0x3F6C835E#32
  | 42 => 0xBE8483EE#32
  | 43 => 0xBF7DCF55#32
  | 44 => 0xA553C9CA#32
  | 45 => 0x3F7DCF55#32
  | 46 => 0x3E8483EE#32
  | 47 => 0xBF6C835E#32
  | 48 => 0xBF000000#32
  | 49 => 0x3F4B1934#32
  | 50 => 0x3F3504F3#32
  | 51 => 0xBF1BD7CA#32
  | 52 => 0xBF5DB3D7#32
  | 53 => 0x3EC3EF15#32
  | 54 => 0x3F7746EA#32
  | 55 => 0xBE05A8A8#32
  | 56 => 0xBF800000#32
  | 57 => 0xBE05A8A8#32
  | 58 => 0x3F7746EA#32
  | 59 => 0x3EC3EF15#32
  | 60 => 0xBF5DB3D7#32
  | 61 => 0xBF1BD7CA#32
  | 62 => 0x3F3504F3#32
  | 63 => 0x3F4B1934#32
  | 64 => 0xBF000000#32
  | 65 => 0xBF6C835E#32
  | 66 => 0x3E8483EE#32
  | 67 => 0x3F7DCF55#32
  | 68 => 0x248D3132#32
  | 69 => 0xBF7DCF55#32
  | 70 => 0xBE8483EE#32
  | 71 => 0x3F6C835E#32
  | 72 => 0x3F000000#32
  | 73 => 0xBF4B1934#32
  | 74 => 0xBF3504F3#32
  | 75 => 0x3F1BD7CA#32
  | 76 => 0x3F5DB3D7#32
  | 77 => 0xBEC3EF15#32
  | 78 => 0xBF7746EA#32
  | 79 => 0x3E05A8A8#32
  | 80 => 0x3F800000#32
  | 81 => 0x3E05A8A8#32
  | 82 => 0xBF7746EA#32
  | 83 => 0xBEC3EF15#32
  | 84 => 0x3F5DB3D7#32
  | 85 => 0x3F1BD7CA#32
  | 86 => 0xBF3504F3#32
  | 87 => 0xBF4B1934#32
  | 88 => 0x3F000000#32
  | 89 => 0x3F6C835E#32
  | 90 => 0xBE8483EE#32
  | 91 => 0xBF7DCF55#32
  | 92 => 0xA553C9CA#32
  | 93 => 0x3F7DCF55#32
  | 94 => 0x3E8483EE#32
  | 95 => 0xBF6C835E#32
  | 96 => 0xBF000000#32
  | 97 => 0x3F4B1934#32
  | 98 => 0x3F3504F3#32
  | 99 => 0xBF1BD7CA#32
  | 100 => 0xBF5DB3D7#32
  | 101 => 0x3EC3EF15#32
  | 102 => 0x3F7746EA#32
  | 103 => 0xBE05A8A8#32
  | 104 => 0xBF800000#32
  | 105 => 0xBE05A8A8#32
  | 106 => 0x3F7746EA#32
  | 107 => 0x3EC3EF15#32
  | 108 => 0xBF5DB3D7#32
  | 109 => 0xBF1BD7CA#32
  | 110 => 0x3F3504F3#32
  | 111 => 0x3F4B1934#32
  | 112 => 0xBF000000#32
  | 113 => 0xBF6C835E#32
  | 114 => 0x3E8483EE#32
  | 115 => 0x3F7DCF55#32
  | 116 => 0x248D3132#32
  | 117 => 0xBF7DCF55#32
  | 118 => 0xBE8483EE#32
  | 119 => 0x3F6C835E#32
  | 120 => 0x3F000000#32
  | 121 => 0xBF4B1934#32
  | 122 => 0xBF3504F3#32
  | 123 => 0x3F1BD7CA#32
  | 124 => 0x3F5DB3D7#32
  | 125 => 0xBEC3EF15#32
  | 126 => 0xBF7746EA#32
  | 127 => 0x3E05A8A8#32
  | _ => 0#32

noncomputable abbrev lit0t0_150 (i : Nat) : BitVec 32 := match i % 128 with
  | 0 => 0x3F800000#32
  | 1 => 0x3E05A8A8#32
  | 2 => 0xBF7746EA#32
  | 3 => 0xBEC3EF15#32
  | 4 => 0x3F5DB3D7#32
  | 5 => 0x3F1BD7CA#32
  | 6 => 0xBF3504F3#32
  | 7 => 0xBF4B1934#32
  | 8 => 0x3F000000#32
  | 9 => 0x3F6C835E#32
  | 10 => 0xBE8483EE#32
  | 11 => 0xBF7DCF55#32
  | 12 => 0xA553C9CA#32
  | 13 => 0x3F7DCF55#32
  | 14 => 0x3E8483EE#32
  | 15 => 0xBF6C835E#32
  | 16 => 0xBF000000#32
  | 17 => 0x3F4B1934#32
  | 18 => 0x3F3504F3#32
  | 19 => 0xBF1BD7CA#32
  | 20 => 0xBF5DB3D7#32
  | 21 => 0x3EC3EF15#32
  | 22 => 0x3F7746EA#32
  | 23 => 0xBE05A8A8#32
  | 24 => 0xBF800000#32
  | 25 => 0xBE05A8A8#32
  | 26 => 0x3F7746EA#32
  | 27 => 0x3EC3EF15#32
  | 28 => 0xBF5DB3D7#32
  | 29 => 0xBF1BD7CA#32
  | 30 => 0x3F3504F3#32
  | 31 => 0x3F4B1934#32
  | 32 => 0xBF000000#32
  | 33 => 0xBF6C835E#32
  | 34 => 0x3E8483EE#32
  | 35 => 0x3F7DCF55#32
  | 36 => 0x248D3132#32
  | 37 => 0xBF7DCF55#32
  | 38 => 0xBE8483EE#32
  | 39 => 0x3F6C835E#32
  | 40 => 0x3F000000#32
  | 41 => 0xBF4B1934#32
  | 42 => 0xBF3504F3#32
  | 43 => 0x3F1BD7CA#32
  | 44 => 0x3F5DB3D7#32
  | 45 => 0xBEC3EF15#32
  | 46 => 0xBF7746EA#32
  | 47 => 0x3E05A8A8#32
  | 48 => 0x3F800000#32
  | 49 => 0x3E05A8A8#32
  | 50 => 0xBF7746EA#32
  | 51 => 0xBEC3EF15#32
  | 52 => 0x3F5DB3D7#32
  | 53 => 0x3F1BD7CA#32
  | 54 => 0xBF3504F3#32
  | 55 => 0xBF4B1934#32
  | 56 => 0x3F000000#32
  | 57 => 0x3F6C835E#32
  | 58 => 0xBE8483EE#32
  | 59 => 0xBF7DCF55#32
  | 60 => 0xA553C9CA#32
  | 61 => 0x3F7DCF55#32
  | 62 => 0x3E8483EE#32
  | 63 => 0xBF6C835E#32
  | 64 => 0xBF000000#32
  | 65 => 0x3F4B1934#32
  | 66 => 0x3F3504F3#32
  | 67 => 0xBF1BD7CA#32
  | 68 => 0xBF5DB3D7#32
  | 69 => 0x3EC3EF15#32
  | 70 => 0x3F7746EA#32
  | 71 => 0xBE05A8A8#32
  | 72 => 0xBF800000#32
  | 73 => 0xBE05A8A8#32
  | 74 => 0x3F7746EA#32
  | 75 => 0x3EC3EF15#32
  | 76 => 0xBF5DB3D7#32
  | 77 => 0xBF1BD7CA#32
  | 78 => 0x3F3504F3#32
  | 79 => 0x3F4B1934#32
  | 80 => 0xBF000000#32
  | 81 => 0xBF6C835E#32
  | 82 => 0x3E8483EE#32
  | 83 => 0x3F7DCF55#32
  | 84 => 0x248D3132#32
  | 85 => 0xBF7DCF55#32
  | 86 => 0xBE8483EE#32
  | 87 => 0x3F6C835E#32
  | 88 => 0x3F000000#32
  | 89 => 0xBF4B1934#32
  | 90 => 0xBF3504F3#32
  | 91 => 0x3F1BD7CA#32
  | 92 => 0x3F5DB3D7#32
  | 93 => 0xBEC3EF15#32
  | 94 => 0xBF7746EA#32
  | 95 => 0x3E05A8A8#32
  | 96 => 0x3F800000#32
  | 97 => 0x3DDEF599#32
  | 98 => 0xBF79EE89#32
  | 99 => 0xBEA493B7#32
  | 100 => 0x3F6803CA#32
  | 101 => 0x3F04CE53#32
  | 102 => 0xBF4B1934#32
  | 103 => 0xBF310700#32
  | 104 => 0x3F248DBB#32
  | 105 => 0x3F54DB31#32
  | 106 => 0xBEEC6A50#32
  | 107 => 0xBF6E9811#32
  | 108 => 0x3E8483EE#32
  | 109 => 0x3F7D0543#32
  | 110 => 0xBD32AA3E#32
  | 111 => 0xBF7F73AF#32
  | 112 => 0xBE31D0D4#32
  | 113 => 0x3F75C5D4#32
  | 114 => 0x3EC3EF15#32
  | 115 => 0xBF60712A#32
  | 116 => 0xBF12D5E8#32
  | 117 => 0x3F407893#32
  | 118 => 0x3F3CBE35#32
  | 119 => 0xBF176012#32
  | 120 => 0xBF5DB3D7#32
  | 121 => 0x3ECE34D0#32
  | 122 => 0x3F7426CB#32
  | 123 => 0xBE47C5C2#32
  | 124 => 0xBF7F069E#32
  | 125 => 0xBCB2B521#32
  | 126 => 0x3F7DCF55#32
  | 127 => 0x3E7363EE#32
  | _ => 0#32

noncomputable abbrev lit0t0_151 (i : Nat) : BitVec 32 := match i % 128 with
  | 0 => 0xBF708FB2#32
  | 1 => 0xBEE273AA#32
  | 2 => 0x3F57E880#32
  | 3 => 0x3F203C85#32
  | 4 => 0xBF3504F3#32
  | 5 => 0xBF47A682#32
  | 6 => 0x3F098C78#32
  | 7 => 0x3F659974#32
  | 8 => 0xBEAF1D44#32
  | 9 => 0xBF78A9E0#32
  | 10 => 0x3E05A8A8#32
  | 11 => 0x3F7FF067#32
  | 12 => 0x3DB27EB6#32
  | 13 => 0xBF7B14BE#32
  | 14 => 0xBE99F61C#32
  | 15 => 0x3F6A51DA#32
  | 16 => 0x3F000000#32
  | 17 => 0xBF4E7327#32
  | 18 => 0xBF2CF37B#32
  | 19 => 0x3F28CAE3#32
  | 20 => 0x3F51B3F3#32
  | 21 => 0xBEF64429#32
  | 22 => 0xBF6C835E#32
  | 23 => 0x3E8F45C0#32
  | 24 => 0x3F7C1C5C#32
  | 25 => 0xBD85F213#32
  | 26 => 0xBF7FC1A0#32
  | 27 => 0xBE1BC63C#32
  | 28 => 0x3F7746EA#32
  | 29 => 0x3EB9917B#32
  | 30 => 0xBF631324#32
  | 31 => 0xBF0E39DA#32
  | 32 => 0x3F441B7D#32
  | 33 => 0x3F38ECD8#32
  | 34 => 0xBF1BD7CA#32
  | 35 => 0xBF5ADB81#32
  | 36 => 0x3ED8616C#32
  | 37 => 0x3F726A03#32
  | 38 => 0xBE5DA259#32
  | 39 => 0xBF7E7A7A#32
  | 40 => 0xA553C9CA#32
  | 41 => 0x3F7E7A7A#32
  | 42 => 0x3E5DA259#32
  | 43 => 0xBF726A03#32
  | 44 => 0xBED8616C#32
  | 45 => 0x3F5ADB81#32
  | 46 => 0x3F1BD7CA#32
  | 47 => 0xBF38ECD8#32
  | 48 => 0xBF441B7D#32
  | 49 => 0x3F0E39DA#32
  | 50 => 0x3F631324#32
  | 51 => 0xBEB9917B#32
  | 52 => 0xBF7746EA#32
  | 53 => 0x3E1BC63C#32
  | 54 => 0x3F7FC1A0#32
  | 55 => 0x3D85F213#32
  | 56 => 0xBF7C1C5C#32
  | 57 => 0xBE8F45C0#32
  | 58 => 0x3F6C835E#32
  | 59 => 0x3EF64429#32
  | 60 => 0xBF51B3F3#32
  | 61 => 0xBF28CAE3#32
  | 62 => 0x3F2CF37B#32
  | 63 => 0x3F4E7327#32
  | 64 => 0xBF000000#32
  | 65 => 0xBF6A51DA#32
  | 66 => 0x3E99F61C#32
  | 67 => 0x3F7B14BE#32
  | 68 => 0xBDB27EB6#32
  | 69 => 0xBF7FF067#32
  | 70 => 0xBE05A8A8#32
  | 71 => 0x3F78A9E0#32
  | 72 => 0x3EAF1D44#32
  | 73 => 0xBF659974#32
  | 74 => 0xBF098C78#32
  | 75 => 0x3F47A682#32
  | 76 => 0x3F3504F3#32
  | 77 => 0xBF203C85#32
  | 78 => 0xBF57E880#32
  | 79 => 0x3EE273AA#32
  | 80 => 0x3F708FB2#32
  | 81 => 0xBE7363EE#32
  | 82 => 0xBF7DCF55#32
  | 83 => 0x3CB2B521#32
  | 84 => 0x3F7F069E#32
  | 85 => 0x3E47C5C2#32
  | 86 => 0xBF7426CB#32
  | 87 => 0xBECE34D0#32
  | 88 => 0x3F5DB3D7#32
  | 89 => 0x3F176012#32
  | 90 => 0xBF3CBE35#32
  | 91 => 0xBF407893#32
  | 92 => 0x3F12D5E8#32
  | 93 => 0x3F60712A#32
  | 94 => 0xBEC3EF15#32
  | 95 => 0xBF75C5D4#32
  | 96 => 0x3E31D0D4#32
  | 97 => 0x3F7F73AF#32
  | 98 => 0x3D32AA3E#32
  | 99 => 0xBF7D0543#32
  | 100 => 0xBE8483EE#32
  | 101 => 0x3F6E9811#32
  | 102 => 0x3EEC6A50#32
  | 103 => 0xBF54DB31#32
  | 104 => 0xBF248DBB#32
  | 105 => 0x3F310700#32
  | 106 => 0x3F4B1934#32
  | 107 => 0xBF04CE53#32
  | 108 => 0xBF6803CA#32
  | 109 => 0x3EA493B7#32
  | 110 => 0x3F79EE89#32
  | 111 => 0xBDDEF599#32
  | 112 => 0xBF800000#32
  | 113 => 0xBDDEF599#32
  | 114 => 0x3F79EE89#32
  | 115 => 0x3EA493B7#32
  | 116 => 0xBF6803CA#32
  | 117 => 0xBF04CE53#32
  | 118 => 0x3F4B1934#32
  | 119 => 0x3F310700#32
  | 120 => 0xBF248DBB#32
  | 121 => 0xBF54DB31#32
  | 122 => 0x3EEC6A50#32
  | 123 => 0x3F6E9811#32
  | 124 => 0xBE8483EE#32
  | 125 => 0xBF7D0543#32
  | 126 => 0x3D32AA3E#32
  | 127 => 0x3F7F73AF#32
  | _ => 0#32

noncomputable abbrev lit0t0_152 (i : Nat) : BitVec 32 := match i % 128 with
  | 0 => 0x3E31D0D4#32
  | 1 => 0xBF75C5D4#32
  | 2 => 0xBEC3EF15#32
  | 3 => 0x3F60712A#32
  | 4 => 0x3F12D5E8#32
  | 5 => 0xBF407893#32
  | 6 => 0xBF3CBE35#32
  | 7 => 0x3F176012#32
  | 8 => 0x3F5DB3D7#32
  | 9 => 0xBECE34D0#32
  | 10 => 0xBF7426CB#32
  | 11 => 0x3E47C5C2#32
  | 12 => 0x3F7F069E#32
  | 13 => 0x3CB2B521#32
  | 14 => 0xBF7DCF55#32
  | 15 => 0xBE7363EE#32
  | 16 => 0x3F708FB2#32
  | 17 => 0x3EE273AA#32
  | 18 => 0xBF57E880#32
  | 19 => 0xBF203C85#32
  | 20 => 0x3F3504F3#32
  | 21 => 0x3F47A682#32
  | 22 => 0xBF098C78#32
  | 23 => 0xBF659974#32
  | 24 => 0x3EAF1D44#32
  | 25 => 0x3F78A9E0#32
  | 26 => 0xBE05A8A8#32
  | 27 => 0xBF7FF067#32
  | 28 => 0xBDB27EB6#32
  | 29 => 0x3F7B14BE#32
  | 30 => 0x3E99F61C#32
  | 31 => 0xBF6A51DA#32
  | 32 => 0xBF000000#32
  | 33 => 0x3F4E7327#32
  | 34 => 0x3F2CF37B#32
  | 35 => 0xBF28CAE3#32
  | 36 => 0xBF51B3F3#32
  | 37 => 0x3EF64429#32
  | 38 => 0x3F6C835E#32
  | 39 => 0xBE8F45C0#32
  | 40 => 0xBF7C1C5C#32
  | 41 => 0x3D85F213#32
  | 42 => 0x3F7FC1A0#32
  | 43 => 0x3E1BC63C#32
  | 44 => 0xBF7746EA#32
  | 45 => 0xBEB9917B#32
  | 46 => 0x3F631324#32
  | 47 => 0x3F0E39DA#32
  | 48 => 0xBF441B7D#32
  | 49 => 0xBF38ECD8#32
  | 50 => 0x3F1BD7CA#32
  | 51 => 0x3F5ADB81#32
  | 52 => 0xBED8616C#32
  | 53 => 0xBF726A03#32
  | 54 => 0x3E5DA259#32
  | 55 => 0x3F7E7A7A#32
  | 56 => 0x248D3132#32
  | 57 => 0xBF7E7A7A#32
  | 58 => 0xBE5DA259#32
  | 59 => 0x3F726A03#32
  | 60 => 0x3ED8616C#32
  | 61 => 0xBF5ADB81#32
  | 62 => 0xBF1BD7CA#32
  | 63 => 0x3F38ECD8#32
  | 64 => 0x3F441B7D#32
  | 65 => 0xBF0E39DA#32
  | 66 => 0xBF631324#32
  | 67 => 0x3EB9917B#32
  | 68 => 0x3F7746EA#32
  | 69 => 0xBE1BC63C#32
  | 70 => 0xBF7FC1A0#32
  | 71 => 0xBD85F213#32
  | 72 => 0x3F7C1C5C#32
  | 73 => 0x3E8F45C0#32
  | 74 => 0xBF6C835E#32
  | 75 => 0xBEF64429#32
  | 76 => 0x3F51B3F3#32
  | 77 => 0x3F28CAE3#32
  | 78 => 0xBF2CF37B#32
  | 79 => 0xBF4E7327#32
  | 80 => 0x3F000000#32
  | 81 => 0x3F6A51DA#32
  | 82 => 0xBE99F61C#32
  | 83 => 0xBF7B14BE#32
  | 84 => 0x3DB27EB6#32
  | 85 => 0x3F7FF067#32
  | 86 => 0x3E05A8A8#32
  | 87 => 0xBF78A9E0#32
  | 88 => 0xBEAF1D44#32
  | 89 => 0x3F659974#32
  | 90 => 0x3F098C78#32
  | 91 => 0xBF47A682#32
  | 92 => 0xBF3504F3#32
  | 93 => 0x3F203C85#32
  | 94 => 0x3F57E880#32
  | 95 => 0xBEE273AA#32
  | 96 => 0xBF708FB2#32
  | 97 => 0x3E7363EE#32
  | 98 => 0x3F7DCF55#32
  | 99 => 0xBCB2B521#32
  | 100 => 0xBF7F069E#32
  | 101 => 0xBE47C5C2#32
  | 102 => 0x3F7426CB#32
  | 103 => 0x3ECE34D0#32
  | 104 => 0xBF5DB3D7#32
  | 105 => 0xBF176012#32
  | 106 => 0x3F3CBE35#32
  | 107 => 0x3F407893#32
  | 108 => 0xBF12D5E8#32
  | 109 => 0xBF60712A#32
  | 110 => 0x3EC3EF15#32
  | 111 => 0x3F75C5D4#32
  | 112 => 0xBE31D0D4#32
  | 113 => 0xBF7F73AF#32
  | 114 => 0xBD32AA3E#32
  | 115 => 0x3F7D0543#32
  | 116 => 0x3E8483EE#32
  | 117 => 0xBF6E9811#32
  | 118 => 0xBEEC6A50#32
  | 119 => 0x3F54DB31#32
  | 120 => 0x3F248DBB#32
  | 121 => 0xBF310700#32
  | 122 => 0xBF4B1934#32
  | 123 => 0x3F04CE53#32
  | 124 => 0x3F6803CA#32
  | 125 => 0xBEA493B7#32
  | 126 => 0xBF79EE89#32
  | 127 => 0x3DDEF599#32
  | _ => 0#32

noncomputable abbrev lit0t0_153 (i : Nat) : BitVec 32 := match i % 128 with
  | 0 => 0x3F800000#32
  | 1 => 0x3DB27EB6#32
  | 2 => 0xBF7C1C5C#32
  | 3 => 0xBE8483EE#32
  | 4 => 0x3F708FB2#32
  | 5 => 0x3ED8616C#32
  | 6 => 0xBF5DB3D7#32
  | 7 => 0xBF12D5E8#32
  | 8 => 0x3F441B7D#32
  | 9 => 0x3F3504F3#32
  | 10 => 0xBF248DBB#32
  | 11 => 0xBF51B3F3#32
  | 12 => 0x3F000000#32
  | 13 => 0x3F6803CA#32
  | 14 => 0xBEAF1D44#32
  | 15 => 0xBF7746EA#32
  | 16 => 0x3E31D0D4#32
  | 17 => 0x3F7F069E#32
  | 18 => 0x248D3132#32
  | 19 => 0xBF7F069E#32
  | 20 => 0xBE31D0D4#32
  | 21 => 0x3F7746EA#32
  | 22 => 0x3EAF1D44#32
  | 23 => 0xBF6803CA#32
  | 24 => 0xBF000000#32
  | 25 => 0x3F51B3F3#32
  | 26 => 0x3F248DBB#32
  | 27 => 0xBF3504F3#32
  | 28 => 0xBF441B7D#32
  | 29 => 0x3F12D5E8#32
  | 30 => 0x3F5DB3D7#32
  | 31 => 0xBED8616C#32
  | 32 => 0xBF708FB2#32
  | 33 => 0x3E8483EE#32
  | 34 => 0x3F7C1C5C#32
  | 35 => 0xBDB27EB6#32
  | 36 => 0xBF800000#32
  | 37 => 0xBDB27EB6#32
  | 38 => 0x3F7C1C5C#32
  | 39 => 0x3E8483EE#32
  | 40 => 0xBF708FB2#32
  | 41 => 0xBED8616C#32
  | 42 => 0x3F5DB3D7#32
  | 43 => 0x3F12D5E8#32
  | 44 => 0xBF441B7D#32
  | 45 => 0xBF3504F3#32
  | 46 => 0x3F248DBB#32
  | 47 => 0x3F51B3F3#32
  | 48 => 0xBF000000#32
  | 49 => 0xBF6803CA#32
  | 50 => 0x3EAF1D44#32
  | 51 => 0x3F7746EA#32
  | 52 => 0xBE31D0D4#32
  | 53 => 0xBF7F069E#32
  | 54 => 0xA553C9CA#32
  | 55 => 0x3F7F069E#32
  | 56 => 0x3E31D0D4#32
  | 57 => 0xBF7746EA#32
  | 58 => 0xBEAF1D44#32
  | 59 => 0x3F6803CA#32
  | 60 => 0x3F000000#32
  | 61 => 0xBF51B3F3#32
  | 62 => 0xBF248DBB#32
  | 63 => 0x3F3504F3#32
  | 64 => 0x3F441B7D#32
  | 65 => 0xBF12D5E8#32
  | 66 => 0xBF5DB3D7#32
  | 67 => 0x3ED8616C#32
  | 68 => 0x3F708FB2#32
  | 69 => 0xBE8483EE#32
  | 70 => 0xBF7C1C5C#32
  | 71 => 0x3DB27EB6#32
  | 72 => 0x3F800000#32
  | 73 => 0x3DB27EB6#32
  | 74 => 0xBF7C1C5C#32
  | 75 => 0xBE8483EE#32
  | 76 => 0x3F708FB2#32
  | 77 => 0x3ED8616C#32
  | 78 => 0xBF5DB3D7#32
  | 79 => 0xBF12D5E8#32
  | 80 => 0x3F441B7D#32
  | 81 => 0x3F3504F3#32
  | 82 => 0xBF248DBB#32
  | 83 => 0xBF51B3F3#32
  | 84 => 0x3F000000#32
  | 85 => 0x3F6803CA#32
  | 86 => 0xBEAF1D44#32
  | 87 => 0xBF7746EA#32
  | 88 => 0x3E31D0D4#32
  | 89 => 0x3F7F069E#32
  | 90 => 0x248D3132#32
  | 91 => 0xBF7F069E#32
  | 92 => 0xBE31D0D4#32
  | 93 => 0x3F7746EA#32
  | 94 => 0x3EAF1D44#32
  | 95 => 0xBF6803CA#32
  | 96 => 0xBF000000#32
  | 97 => 0x3F51B3F3#32
  | 98 => 0x3F248DBB#32
  | 99 => 0xBF3504F3#32
  | 100 => 0xBF441B7D#32
  | 101 => 0x3F12D5E8#32
  | 102 => 0x3F5DB3D7#32
  | 103 => 0xBED8616C#32
  | 104 => 0xBF708FB2#32
  | 105 => 0x3E8483EE#32
  | 106 => 0x3F7C1C5C#32
  | 107 => 0xBDB27EB6#32
  | 108 => 0xBF800000#32
  | 109 => 0xBDB27EB6#32
  | 110 => 0x3F7C1C5C#32
  | 111 => 0x3E8483EE#32
  | 112 => 0xBF708FB2#32
  | 113 => 0xBED8616C#32
  | 114 => 0x3F5DB3D7#32
  | 115 => 0x3F12D5E8#32
  | 116 => 0xBF441B7D#32
  | 117 => 0xBF3504F3#32
  | 118 => 0x3F248DBB#32
  | 119 => 0x3F51B3F3#32
  | 120 => 0xBF000000#32
  | 121 => 0xBF6803CA#32
  | 122 => 0x3EAF1D44#32
  | 123 => 0x3F7746EA#32
  | 124 => 0xBE31D0D4#32
  | 125 => 0xBF7F069E#32
  | 126 => 0xA553C9CA#32
  | 127 => 0x3F7F069E#32
  | _ => 0#32

noncomputable abbrev lit0t0_154 (i : Nat) : BitVec 32 := match i % 128 with
  | 0 => 0x3E31D0D4#32
  | 1 => 0xBF7746EA#32
  | 2 => 0xBEAF1D44#32
  | 3 => 0x3F6803CA#32
  | 4 => 0x3F000000#32
  | 5 => 0xBF51B3F3#32
  | 6 => 0xBF248DBB#32
  | 7 => 0x3F3504F3#32
  | 8 => 0x3F441B7D#32
  | 9 => 0xBF12D5E8#32
  | 10 => 0xBF5DB3D7#32
  | 11 => 0x3ED8616C#32
  | 12 => 0x3F708FB2#32
  | 13 => 0xBE8483EE#32
  | 14 => 0xBF7C1C5C#32
  | 15 => 0x3DB27EB6#32
  | 16 => 0x3F800000#32
  | 17 => 0x3DB27EB6#32
  | 18 => 0xBF7C1C5C#32
  | 19 => 0xBE8483EE#32
  | 20 => 0x3F708FB2#32
  | 21 => 0x3ED8616C#32
  | 22 => 0xBF5DB3D7#32
  | 23 => 0xBF12D5E8#32
  | 24 => 0x3F441B7D#32
  | 25 => 0x3F3504F3#32
  | 26 => 0xBF248DBB#32
  | 27 => 0xBF51B3F3#32
  | 28 => 0x3F000000#32
  | 29 => 0x3F6803CA#32
  | 30 => 0xBEAF1D44#32
  | 31 => 0xBF7746EA#32
  | 32 => 0x3E31D0D4#32
  | 33 => 0x3F7F069E#32
  | 34 => 0x248D3132#32
  | 35 => 0xBF7F069E#32
  | 36 => 0xBE31D0D4#32
  | 37 => 0x3F7746EA#32
  | 38 => 0x3EAF1D44#32
  | 39 => 0xBF6803CA#32
  | 40 => 0xBF000000#32
  | 41 => 0x3F51B3F3#32
  | 42 => 0x3F248DBB#32
  | 43 => 0xBF3504F3#32
  | 44 => 0xBF441B7D#32
  | 45 => 0x3F12D5E8#32
  | 46 => 0x3F5DB3D7#32
  | 47 => 0xBED8616C#32
  | 48 => 0xBF708FB2#32
  | 49 => 0x3E8483EE#32
  | 50 => 0x3F7C1C5C#32
  | 51 => 0xBDB27EB6#32
  | 52 => 0xBF800000#32
  | 53 => 0xBDB27EB6#32
  | 54 => 0x3F7C1C5C#32
  | 55 => 0x3E8483EE#32
  | 56 => 0xBF708FB2#32
  | 57 => 0xBED8616C#32
  | 58 => 0x3F5DB3D7#32
  | 59 => 0x3F12D5E8#32
  | 60 => 0xBF441B7D#32
  | 61 => 0xBF3504F3#32
  | 62 => 0x3F248DBB#32
  | 63 => 0x3F51B3F3#32
  | 64 => 0xBF000000#32
  | 65 => 0xBF6803CA#32
  | 66 => 0x3EAF1D44#32
  | 67 => 0x3F7746EA#32
  | 68 => 0xBE31D0D4#32
  | 69 => 0xBF7F069E#32
  | 70 => 0xA553C9CA#32
  | 71 => 0x3F7F069E#32
  | 72 => 0x3E31D0D4#32
  | 73 => 0xBF7746EA#32
  | 74 => 0xBEAF1D44#32
  | 75 => 0x3F6803CA#32
  | 76 => 0x3F000000#32
  | 77 => 0xBF51B3F3#32
  | 78 => 0xBF248DBB#32
  | 79 => 0x3F3504F3#32
  | 80 => 0x3F441B7D#32
  | 81 => 0xBF12D5E8#32
  | 82 => 0xBF5DB3D7#32
  | 83 => 0x3ED8616C#32
  | 84 => 0x3F708FB2#32
  | 85 => 0xBE8483EE#32
  | 86 => 0xBF7C1C5C#32
  | 87 => 0x3DB27EB6#32
  | 88 => 0x3F800000#32
  | 89 => 0x3DB27EB6#32
  | 90 => 0xBF7C1C5C#32
  | 91 => 0xBE8483EE#32
  | 92 => 0x3F708FB2#32
  | 93 => 0x3ED8616C#32
  | 94 => 0xBF5DB3D7#32
  | 95 => 0xBF12D5E8#32
  | 96 => 0x3F441B7D#32
  | 97 => 0x3F3504F3#32
  | 98 => 0xBF248DBB#32
  | 99 => 0xBF51B3F3#32
  | 100 => 0x3F000000#32
  | 101 => 0x3F6803CA#32
  | 102 => 0xBEAF1D44#32
  | 103 => 0xBF7746EA#32
  | 104 => 0x3E31D0D4#32
  | 105 => 0x3F7F069E#32
  | 106 => 0x248D3132#32
  | 107 => 0xBF7F069E#32
  | 108 => 0xBE31D0D4#32
  | 109 => 0x3F7746EA#32
  | 110 => 0x3EAF1D44#32
  | 111 => 0xBF6803CA#32
  | 112 => 0xBF000000#32
  | 113 => 0x3F51B3F3#32
  | 114 => 0x3F248DBB#32
  | 115 => 0xBF3504F3#32
  | 116 => 0xBF441B7D#32
  | 117 => 0x3F12D5E8#32
  | 118 => 0x3F5DB3D7#32
  | 119 => 0xBED8616C#32
  | 120 => 0xBF708FB2#32
  | 121 => 0x3E8483EE#32
  | 122 => 0x3F7C1C5C#32
  | 123 => 0xBDB27EB6#32
  | 124 => 0xBF800000#32
  | 125 => 0xBDB27EB6#32
  | 126 => 0x3F7C1C5C#32
  | 127 => 0x3E8483EE#32
  | _ => 0#32

noncomputable abbrev lit0t0_155 (i : Nat) : BitVec 32 := match i % 128 with
  | 0 => 0xBF708FB2#32
  | 1 => 0xBED8616C#32
  | 2 => 0x3F5DB3D7#32
  | 3 => 0x3F12D5E8#32
  | 4 => 0xBF441B7D#32
  | 5 => 0xBF3504F3#32
  | 6 => 0x3F248DBB#32
  | 7 => 0x3F51B3F3#32
  | 8 => 0xBF000000#32
  | 9 => 0xBF6803CA#32
  | 10 => 0x3EAF1D44#32
  | 11 => 0x3F7746EA#32
  | 12 => 0xBE31D0D4#32
  | 13 => 0xBF7F069E#32
  | 14 => 0xA553C9CA#32
  | 15 => 0x3F7F069E#32
  | 16 => 0x3E31D0D4#32
  | 17 => 0xBF7746EA#32
  | 18 => 0xBEAF1D44#32
  | 19 => 0x3F6803CA#32
  | 20 => 0x3F000000#32
  | 21 => 0xBF51B3F3#32
  | 22 => 0xBF248DBB#32
  | 23 => 0x3F3504F3#32
  | 24 => 0x3F441B7D#32
  | 25 => 0xBF12D5E8#32
  | 26 => 0xBF5DB3D7#32
  | 27 => 0x3ED8616C#32
  | 28 => 0x3F708FB2#32
  | 29 => 0xBE8483EE#32
  | 30 => 0xBF7C1C5C#32
  | 31 => 0x3DB27EB6#32
  | 32 => 0x3F800000#32
  | 33 => 0x3D85F213#32
  | 34 => 0xBF7DCF55#32
  | 35 => 0xBE47C5C2#32
  | 36 => 0x3F7746EA#32
  | 37 => 0x3EA493B7#32
  | 38 => 0xBF6C835E#32
  | 39 => 0xBEE273AA#32
  | 40 => 0x3F5DB3D7#32
  | 41 => 0x3F0E39DA#32
  | 42 => 0xBF4B1934#32
  | 43 => 0xBF28CAE3#32
  | 44 => 0x3F3504F3#32
  | 45 => 0x3F407893#32
  | 46 => 0xBF1BD7CA#32
  | 47 => 0xBF54DB31#32
  | 48 => 0x3F000000#32
  | 49 => 0x3F659974#32
  | 50 => 0xBEC3EF15#32
  | 51 => 0xBF726A03#32
  | 52 => 0x3E8483EE#32
  | 53 => 0x3F7B14BE#32
  | 54 => 0xBE05A8A8#32
  | 55 => 0xBF7F73AF#32
  | 56 => 0xA553C9CA#32
  | 57 => 0x3F7F73AF#32
  | 58 => 0x3E05A8A8#32
  | 59 => 0xBF7B14BE#32
  | 60 => 0xBE8483EE#32
  | 61 => 0x3F726A03#32
  | 62 => 0x3EC3EF15#32
  | 63 => 0xBF659974#32
  | 64 => 0xBF000000#32
  | 65 => 0x3F54DB31#32
  | 66 => 0x3F1BD7CA#32
  | 67 => 0xBF407893#32
  | 68 => 0xBF3504F3#32
  | 69 => 0x3F28CAE3#32
  | 70 => 0x3F4B1934#32
  | 71 => 0xBF0E39DA#32
  | 72 => 0xBF5DB3D7#32
  | 73 => 0x3EE273AA#32
  | 74 => 0x3F6C835E#32
  | 75 => 0xBEA493B7#32
  | 76 => 0xBF7746EA#32
  | 77 => 0x3E47C5C2#32
  | 78 => 0x3F7DCF55#32
  | 79 => 0xBD85F213#32
  | 80 => 0xBF800000#32
  | 81 => 0xBD85F213#32
  | 82 => 0x3F7DCF55#32
  | 83 => 0x3E47C5C2#32
  | 84 => 0xBF7746EA#32
  | 85 => 0xBEA493B7#32
  | 86 => 0x3F6C835E#32
  | 87 => 0x3EE273AA#32
  | 88 => 0xBF5DB3D7#32
  | 89 => 0xBF0E39DA#32
  | 90 => 0x3F4B1934#32
  | 91 => 0x3F28CAE3#32
  | 92 => 0xBF3504F3#32
  | 93 => 0xBF407893#32
  | 94 => 0x3F1BD7CA#32
  | 95 => 0x3F54DB31#32
  | 96 => 0xBF000000#32
  | 97 => 0xBF659974#32
  | 98 => 0x3EC3EF15#32
  | 99 => 0x3F726A03#32
  | 100 => 0xBE8483EE#32
  | 101 => 0xBF7B14BE#32
  | 102 => 0x3E05A8A8#32
  | 103 => 0x3F7F73AF#32
  | 104 => 0x248D3132#32
  | 105 => 0xBF7F73AF#32
  | 106 => 0xBE05A8A8#32
  | 107 => 0x3F7B14BE#32
  | 108 => 0x3E8483EE#32
  | 109 => 0xBF726A03#32
  | 110 => 0xBEC3EF15#32
  | 111 => 0x3F659974#32
  | 112 => 0x3F000000#32
  | 113 => 0xBF54DB31#32
  | 114 => 0xBF1BD7CA#32
  | 115 => 0x3F407893#32
  | 116 => 0x3F3504F3#32
  | 117 => 0xBF28CAE3#32
  | 118 => 0xBF4B1934#32
  | 119 => 0x3F0E39DA#32
  | 120 => 0x3F5DB3D7#32
  | 121 => 0xBEE273AA#32
  | 122 => 0xBF6C835E#32
  | 123 => 0x3EA493B7#32
  | 124 => 0x3F7746EA#32
  | 125 => 0xBE47C5C2#32
  | 126 => 0xBF7DCF55#32
  | 127 => 0x3D85F213#32
  | _ => 0#32

noncomputable abbrev lit0t0_156 (i : Nat) : BitVec 32 := match i % 128 with
  | 0 => 0x3F800000#32
  | 1 => 0x3D85F213#32
  | 2 => 0xBF7DCF55#32
  | 3 => 0xBE47C5C2#32
  | 4 => 0x3F7746EA#32
  | 5 => 0x3EA493B7#32
  | 6 => 0xBF6C835E#32
  | 7 => 0xBEE273AA#32
  | 8 => 0x3F5DB3D7#32
  | 9 => 0x3F0E39DA#32
  | 10 => 0xBF4B1934#32
  | 11 => 0xBF28CAE3#32
  | 12 => 0x3F3504F3#32
  | 13 => 0x3F407893#32
  | 14 => 0xBF1BD7CA#32
  | 15 => 0xBF54DB31#32
  | 16 => 0x3F000000#32
  | 17 => 0x3F659974#32
  | 18 => 0xBEC3EF15#32
  | 19 => 0xBF726A03#32
  | 20 => 0x3E8483EE#32
  | 21 => 0x3F7B14BE#32
  | 22 => 0xBE05A8A8#32
  | 23 => 0xBF7F73AF#32
  | 24 => 0xA553C9CA#32
  | 25 => 0x3F7F73AF#32
  | 26 => 0x3E05A8A8#32
  | 27 => 0xBF7B14BE#32
  | 28 => 0xBE8483EE#32
  | 29 => 0x3F726A03#32
  | 30 => 0x3EC3EF15#32
  | 31 => 0xBF659974#32
  | 32 => 0xBF000000#32
  | 33 => 0x3F54DB31#32
  | 34 => 0x3F1BD7CA#32
  | 35 => 0xBF407893#32
  | 36 => 0xBF3504F3#32
  | 37 => 0x3F28CAE3#32
  | 38 => 0x3F4B1934#32
  | 39 => 0xBF0E39DA#32
  | 40 => 0xBF5DB3D7#32
  | 41 => 0x3EE273AA#32
  | 42 => 0x3F6C835E#32
  | 43 => 0xBEA493B7#32
  | 44 => 0xBF7746EA#32
  | 45 => 0x3E47C5C2#32
  | 46 => 0x3F7DCF55#32
  | 47 => 0xBD85F213#32
  | 48 => 0xBF800000#32
  | 49 => 0xBD85F213#32
  | 50 => 0x3F7DCF55#32
  | 51 => 0x3E47C5C2#32
  | 52 => 0xBF7746EA#32
  | 53 => 0xBEA493B7#32
  | 54 => 0x3F6C835E#32
  | 55 => 0x3EE273AA#32
  | 56 => 0xBF5DB3D7#32
  | 57 => 0xBF0E39DA#32
  | 58 => 0x3F4B1934#32
  | 59 => 0x3F28CAE3#32
  | 60 => 0xBF3504F3#32
  | 61 => 0xBF407893#32
  | 62 => 0x3F1BD7CA#32
  | 63 => 0x3F54DB31#32
  | 64 => 0xBF000000#32
  | 65 => 0xBF659974#32
  | 66 => 0x3EC3EF15#32
  | 67 => 0x3F726A03#32
  | 68 => 0xBE8483EE#32
  | 69 => 0xBF7B14BE#32
  | 70 => 0x3E05A8A8#32
  | 71 => 0x3F7F73AF#32
  | 72 => 0x248D3132#32
  | 73 => 0xBF7F73AF#32
  | 74 => 0xBE05A8A8#32
  | 75 => 0x3F7B14BE#32
  | 76 => 0x3E8483EE#32
  | 77 => 0xBF726A03#32
  | 78 => 0xBEC3EF15#32
  | 79 => 0x3F659974#32
  | 80 => 0x3F000000#32
  | 81 => 0xBF54DB31#32
  | 82 => 0xBF1BD7CA#32
  | 83 => 0x3F407893#32
  | 84 => 0x3F3504F3#32
  | 85 => 0xBF28CAE3#32
  | 86 => 0xBF4B1934#32
  | 87 => 0x3F0E39DA#32
  | 88 => 0x3F5DB3D7#32
  | 89 => 0xBEE273AA#32
  | 90 => 0xBF6C835E#32
  | 91 => 0x3EA493B7#32
  | 92 => 0x3F7746EA#32
  | 93 => 0xBE47C5C2#32
  | 94 => 0xBF7DCF55#32
  | 95 => 0x3D85F213#32
  | 96 => 0x3F800000#32
  | 97 => 0x3D85F213#32
  | 98 => 0xBF7DCF55#32
  | 99 => 0xBE47C5C2#32
  | 100 => 0x3F7746EA#32
  | 101 => 0x3EA493B7#32
  | 102 => 0xBF6C835E#32
  | 103 => 0xBEE273AA#32
  | 104 => 0x3F5DB3D7#32
  | 105 => 0x3F0E39DA#32
  | 106 => 0xBF4B1934#32
  | 107 => 0xBF28CAE3#32
  | 108 => 0x3F3504F3#32
  | 109 => 0x3F407893#32
  | 110 => 0xBF1BD7CA#32
  | 111 => 0xBF54DB31#32
  | 112 => 0x3F000000#32
  | 113 => 0x3F659974#32
  | 114 => 0xBEC3EF15#32
  | 115 => 0xBF726A03#32
  | 116 => 0x3E8483EE#32
  | 117 => 0x3F7B14BE#32
  | 118 => 0xBE05A8A8#32
  | 119 => 0xBF7F73AF#32
  | 120 => 0xA553C9CA#32
  | 121 => 0x3F7F73AF#32
  | 122 => 0x3E05A8A8#32
  | 123 => 0xBF7B14BE#32
  | 124 => 0xBE8483EE#32
  | 125 => 0x3F726A03#32
  | 126 => 0x3EC3EF15#32
  | 127 => 0xBF659974#32
  | _ => 0#32

noncomputable abbrev lit0t0_157 (i : Nat) : BitVec 32 := match i % 128 with
  | 0 => 0xBF000000#32
  | 1 => 0x3F54DB31#32
  | 2 => 0x3F1BD7CA#32
  | 3 => 0xBF407893#32
  | 4 => 0xBF3504F3#32
  | 5 => 0x3F28CAE3#32
  | 6 => 0x3F4B1934#32
  | 7 => 0xBF0E39DA#32
  | 8 => 0xBF5DB3D7#32
  | 9 => 0x3EE273AA#32
  | 10 => 0x3F6C835E#32
  | 11 => 0xBEA493B7#32
  | 12 => 0xBF7746EA#32
  | 13 => 0x3E47C5C2#32
  | 14 => 0x3F7DCF55#32
  | 15 => 0xBD85F213#32
  | 16 => 0xBF800000#32
  | 17 => 0xBD85F213#32
  | 18 => 0x3F7DCF55#32
  | 19 => 0x3E47C5C2#32
  | 20 => 0xBF7746EA#32
  | 21 => 0xBEA493B7#32
  | 22 => 0x3F6C835E#32
  | 23 => 0x3EE273AA#32
  | 24 => 0xBF5DB3D7#32
  | 25 => 0xBF0E39DA#32
  | 26 => 0x3F4B1934#32
  | 27 => 0x3F28CAE3#32
  | 28 => 0xBF3504F3#32
  | 29 => 0xBF407893#32
  | 30 => 0x3F1BD7CA#32
  | 31 => 0x3F54DB31#32
  | 32 => 0xBF000000#32
  | 33 => 0xBF659974#32
  | 34 => 0x3EC3EF15#32
  | 35 => 0x3F726A03#32
  | 36 => 0xBE8483EE#32
  | 37 => 0xBF7B14BE#32
  | 38 => 0x3E05A8A8#32
  | 39 => 0x3F7F73AF#32
  | 40 => 0x248D3132#32
  | 41 => 0xBF7F73AF#32
  | 42 => 0xBE05A8A8#32
  | 43 => 0x3F7B14BE#32
  | 44 => 0x3E8483EE#32
  | 45 => 0xBF726A03#32
  | 46 => 0xBEC3EF15#32
  | 47 => 0x3F659974#32
  | 48 => 0x3F000000#32
  | 49 => 0xBF54DB31#32
  | 50 => 0xBF1BD7CA#32
  | 51 => 0x3F407893#32
  | 52 => 0x3F3504F3#32
  | 53 => 0xBF28CAE3#32
  | 54 => 0xBF4B1934#32
  | 55 => 0x3F0E39DA#32
  | 56 => 0x3F5DB3D7#32
  | 57 => 0xBEE273AA#32
  | 58 => 0xBF6C835E#32
  | 59 => 0x3EA493B7#32
  | 60 => 0x3F7746EA#32
  | 61 => 0xBE47C5C2#32
  | 62 => 0xBF7DCF55#32
  | 63 => 0x3D85F213#32
  | 64 => 0x3F800000#32
  | 65 => 0x3D32AA3E#32
  | 66 => 0xBF7F069E#32
  | 67 => 0xBE05A8A8#32
  | 68 => 0x3F7C1C5C#32
  | 69 => 0x3E5DA259#32
  | 70 => 0xBF7746EA#32
  | 71 => 0xBE99F61C#32
  | 72 => 0x3F708FB2#32
  | 73 => 0x3EC3EF15#32
  | 74 => 0xBF6803CA#32
  | 75 => 0xBEEC6A50#32
  | 76 => 0x3F5DB3D7#32
  | 77 => 0x3F098C78#32
  | 78 => 0xBF51B3F3#32
  | 79 => 0xBF1BD7CA#32
  | 80 => 0x3F441B7D#32
  | 81 => 0x3F2CF37B#32
  | 82 => 0xBF3504F3#32
  | 83 => 0xBF3CBE35#32
  | 84 => 0x3F248DBB#32
  | 85 => 0x3F4B1934#32
  | 86 => 0xBF12D5E8#32
  | 87 => 0xBF57E880#32
  | 88 => 0x3F000000#32
  | 89 => 0x3F631324#32
  | 90 => 0xBED8616C#32
  | 91 => 0xBF6C835E#32
  | 92 => 0x3EAF1D44#32
  | 93 => 0x3F7426CB#32
  | 94 => 0xBE8483EE#32
  | 95 => 0xBF79EE89#32
  | 96 => 0x3E31D0D4#32
  | 97 => 0x3F7DCF55#32
  | 98 => 0xBDB27EB6#32
  | 99 => 0xBF7FC1A0#32
  | 100 => 0xA553C9CA#32
  | 101 => 0x3F7FC1A0#32
  | 102 => 0x3DB27EB6#32
  | 103 => 0xBF7DCF55#32
  | 104 => 0xBE31D0D4#32
  | 105 => 0x3F79EE89#32
  | 106 => 0x3E8483EE#32
  | 107 => 0xBF7426CB#32
  | 108 => 0xBEAF1D44#32
  | 109 => 0x3F6C835E#32
  | 110 => 0x3ED8616C#32
  | 111 => 0xBF631324#32
  | 112 => 0xBF000000#32
  | 113 => 0x3F57E880#32
  | 114 => 0x3F12D5E8#32
  | 115 => 0xBF4B1934#32
  | 116 => 0xBF248DBB#32
  | 117 => 0x3F3CBE35#32
  | 118 => 0x3F3504F3#32
  | 119 => 0xBF2CF37B#32
  | 120 => 0xBF441B7D#32
  | 121 => 0x3F1BD7CA#32
  | 122 => 0x3F51B3F3#32
  | 123 => 0xBF098C78#32
  | 124 => 0xBF5DB3D7#32
  | 125 => 0x3EEC6A50#32
  | 126 => 0x3F6803CA#32
  | 127 => 0xBEC3EF15#32
  | _ => 0#32

noncomputable abbrev lit0t0_158 (i : Nat) : BitVec 32 := match i % 128 with
  | 0 => 0xBF708FB2#32
  | 1 => 0x3E99F61C#32
  | 2 => 0x3F7746EA#32
  | 3 => 0xBE5DA259#32
  | 4 => 0xBF7C1C5C#32
  | 5 => 0x3E05A8A8#32
  | 6 => 0x3F7F069E#32
  | 7 => 0xBD32AA3E#32
  | 8 => 0xBF800000#32
  | 9 => 0xBD32AA3E#32
  | 10 => 0x3F7F069E#32
  | 11 => 0x3E05A8A8#32
  | 12 => 0xBF7C1C5C#32
  | 13 => 0xBE5DA259#32
  | 14 => 0x3F7746EA#32
  | 15 => 0x3E99F61C#32
  | 16 => 0xBF708FB2#32
  | 17 => 0xBEC3EF15#32
  | 18 => 0x3F6803CA#32
  | 19 => 0x3EEC6A50#32
  | 20 => 0xBF5DB3D7#32
  | 21 => 0xBF098C78#32
  | 22 => 0x3F51B3F3#32
  | 23 => 0x3F1BD7CA#32
  | 24 => 0xBF441B7D#32
  | 25 => 0xBF2CF37B#32
  | 26 => 0x3F3504F3#32
  | 27 => 0x3F3CBE35#32
  | 28 => 0xBF248DBB#32
  | 29 => 0xBF4B1934#32
  | 30 => 0x3F12D5E8#32
  | 31 => 0x3F57E880#32
  | 32 => 0xBF000000#32
  | 33 => 0xBF631324#32
  | 34 => 0x3ED8616C#32
  | 35 => 0x3F6C835E#32
  | 36 => 0xBEAF1D44#32
  | 37 => 0xBF7426CB#32
  | 38 => 0x3E8483EE#32
  | 39 => 0x3F79EE89#32
  | 40 => 0xBE31D0D4#32
  | 41 => 0xBF7DCF55#32
  | 42 => 0x3DB27EB6#32
  | 43 => 0x3F7FC1A0#32
  | 44 => 0x248D3132#32
  | 45 => 0xBF7FC1A0#32
  | 46 => 0xBDB27EB6#32
  | 47 => 0x3F7DCF55#32
  | 48 => 0x3E31D0D4#32
  | 49 => 0xBF79EE89#32
  | 50 => 0xBE8483EE#32
  | 51 => 0x3F7426CB#32
  | 52 => 0x3EAF1D44#32
  | 53 => 0xBF6C835E#32
  | 54 => 0xBED8616C#32
  | 55 => 0x3F631324#32
  | 56 => 0x3F000000#32
  | 57 => 0xBF57E880#32
  | 58 => 0xBF12D5E8#32
  | 59 => 0x3F4B1934#32
  | 60 => 0x3F248DBB#32
  | 61 => 0xBF3CBE35#32
  | 62 => 0xBF3504F3#32
  | 63 => 0x3F2CF37B#32
  | 64 => 0x3F441B7D#32
  | 65 => 0xBF1BD7CA#32
  | 66 => 0xBF51B3F3#32
  | 67 => 0x3F098C78#32
  | 68 => 0x3F5DB3D7#32
  | 69 => 0xBEEC6A50#32
  | 70 => 0xBF6803CA#32
  | 71 => 0x3EC3EF15#32
  | 72 => 0x3F708FB2#32
  | 73 => 0xBE99F61C#32
  | 74 => 0xBF7746EA#32
  | 75 => 0x3E5DA259#32
  | 76 => 0x3F7C1C5C#32
  | 77 => 0xBE05A8A8#32
  | 78 => 0xBF7F069E#32
  | 79 => 0x3D32AA3E#32
  | 80 => 0x3F800000#32
  | 81 => 0x3D32AA3E#32
  | 82 => 0xBF7F069E#32
  | 83 => 0xBE05A8A8#32
  | 84 => 0x3F7C1C5C#32
  | 85 => 0x3E5DA259#32
  | 86 => 0xBF7746EA#32
  | 87 => 0xBE99F61C#32
  | 88 => 0x3F708FB2#32
  | 89 => 0x3EC3EF15#32
  | 90 => 0xBF6803CA#32
  | 91 => 0xBEEC6A50#32
  | 92 => 0x3F5DB3D7#32
  | 93 => 0x3F098C78#32
  | 94 => 0xBF51B3F3#32
  | 95 => 0xBF1BD7CA#32
  | 96 => 0x3F441B7D#32
  | 97 => 0x3F2CF37B#32
  | 98 => 0xBF3504F3#32
  | 99 => 0xBF3CBE35#32
  | 100 => 0x3F248DBB#32
  | 101 => 0x3F4B1934#32
  | 102 => 0xBF12D5E8#32
  | 103 => 0xBF57E880#32
  | 104 => 0x3F000000#32
  | 105 => 0x3F631324#32
  | 106 => 0xBED8616C#32
  | 107 => 0xBF6C835E#32
  | 108 => 0x3EAF1D44#32
  | 109 => 0x3F7426CB#32
  | 110 => 0xBE8483EE#32
  | 111 => 0xBF79EE89#32
  | 112 => 0x3E31D0D4#32
  | 113 => 0x3F7DCF55#32
  | 114 => 0xBDB27EB6#32
  | 115 => 0xBF7FC1A0#32
  | 116 => 0xA553C9CA#32
  | 117 => 0x3F7FC1A0#32
  | 118 => 0x3DB27EB6#32
  | 119 => 0xBF7DCF55#32
  | 120 => 0xBE31D0D4#32
  | 121 => 0x3F79EE89#32
  | 122 => 0x3E8483EE#32
  | 123 => 0xBF7426CB#32
  | 124 => 0xBEAF1D44#32
  | 125 => 0x3F6C835E#32
  | 126 => 0x3ED8616C#32
  | 127 => 0xBF631324#32
  | _ => 0#32

noncomputable abbrev lit0t0_159 (i : Nat) : BitVec 32 := match i % 128 with
  | 0 => 0xBF000000#32
  | 1 => 0x3F57E880#32
  | 2 => 0x3F12D5E8#32
  | 3 => 0xBF4B1934#32
  | 4 => 0xBF248DBB#32
  | 5 => 0x3F3CBE35#32
  | 6 => 0x3F3504F3#32
  | 7 => 0xBF2CF37B#32
  | 8 => 0xBF441B7D#32
  | 9 => 0x3F1BD7CA#32
  | 10 => 0x3F51B3F3#32
  | 11 => 0xBF098C78#32
  | 12 => 0xBF5DB3D7#32
  | 13 => 0x3EEC6A50#32
  | 14 => 0x3F6803CA#32
  | 15 => 0xBEC3EF15#32
  | 16 => 0xBF708FB2#32
  | 17 => 0x3E99F61C#32
  | 18 => 0x3F7746EA#32
  | 19 => 0xBE5DA259#32
  | 20 => 0xBF7C1C5C#32
  | 21 => 0x3E05A8A8#32
  | 22 => 0x3F7F069E#32
  | 23 => 0xBD32AA3E#32
  | 24 => 0xBF800000#32
  | 25 => 0xBD32AA3E#32
  | 26 => 0x3F7F069E#32
  | 27 => 0x3E05A8A8#32
  | 28 => 0xBF7C1C5C#32
  | 29 => 0xBE5DA259#32
  | 30 => 0x3F7746EA#32
  | 31 => 0x3E99F61C#32
  | 32 => 0xBF708FB2#32
  | 33 => 0xBEC3EF15#32
  | 34 => 0x3F6803CA#32
  | 35 => 0x3EEC6A50#32
  | 36 => 0xBF5DB3D7#32
  | 37 => 0xBF098C78#32
  | 38 => 0x3F51B3F3#32
  | 39 => 0x3F1BD7CA#32
  | 40 => 0xBF441B7D#32
  | 41 => 0xBF2CF37B#32
  | 42 => 0x3F3504F3#32
  | 43 => 0x3F3CBE35#32
  | 44 => 0xBF248DBB#32
  | 45 => 0xBF4B1934#32
  | 46 => 0x3F12D5E8#32
  | 47 => 0x3F57E880#32
  | 48 => 0xBF000000#32
  | 49 => 0xBF631324#32
  | 50 => 0x3ED8616C#32
  | 51 => 0x3F6C835E#32
  | 52 => 0xBEAF1D44#32
  | 53 => 0xBF7426CB#32
  | 54 => 0x3E8483EE#32
  | 55 => 0x3F79EE89#32
  | 56 => 0xBE31D0D4#32
  | 57 => 0xBF7DCF55#32
  | 58 => 0x3DB27EB6#32
  | 59 => 0x3F7FC1A0#32
  | 60 => 0x248D3132#32
  | 61 => 0xBF7FC1A0#32
  | 62 => 0xBDB27EB6#32
  | 63 => 0x3F7DCF55#32
  | 64 => 0x3E31D0D4#32
  | 65 => 0xBF79EE89#32
  | 66 => 0xBE8483EE#32
  | 67 => 0x3F7426CB#32
  | 68 => 0x3EAF1D44#32
  | 69 => 0xBF6C835E#32
  | 70 => 0xBED8616C#32
  | 71 => 0x3F631324#32
  | 72 => 0x3F000000#32
  | 73 => 0xBF57E880#32
  | 74 => 0xBF12D5E8#32
  | 75 => 0x3F4B1934#32
  | 76 => 0x3F248DBB#32
  | 77 => 0xBF3CBE35#32
  | 78 => 0xBF3504F3#32
  | 79 => 0x3F2CF37B#32
  | 80 => 0x3F441B7D#32
  | 81 => 0xBF1BD7CA#32
  | 82 => 0xBF51B3F3#32
  | 83 => 0x3F098C78#32
  | 84 => 0x3F5DB3D7#32
  | 85 => 0xBEEC6A50#32
  | 86 => 0xBF6803CA#32
  | 87 => 0x3EC3EF15#32
  | 88 => 0x3F708FB2#32
  | 89 => 0xBE99F61C#32
  | 90 => 0xBF7746EA#32
  | 91 => 0x3E5DA259#32
  | 92 => 0x3F7C1C5C#32
  | 93 => 0xBE05A8A8#32
  | 94 => 0xBF7F069E#32
  | 95 => 0x3D32AA3E#32
  | 96 => 0x3F800000#32
  | 97 => 0x3CB2B521#32
  | 98 => 0xBF7FC1A0#32
  | 99 => 0xBD85F213#32
  | 100 => 0x3F7F069E#32
  | 101 => 0x3DDEF599#32
  | 102 => 0xBF7DCF55#32
  | 103 => 0xBE1BC63C#32
  | 104 => 0x3F7C1C5C#32
  | 105 => 0x3E47C5C2#32
  | 106 => 0xBF79EE89#32
  | 107 => 0xBE7363EE#32
  | 108 => 0x3F7746EA#32
  | 109 => 0x3E8F45C0#32
  | 110 => 0xBF7426CB#32
  | 111 => 0xBEA493B7#32
  | 112 => 0x3F708FB2#32
  | 113 => 0x3EB9917B#32
  | 114 => 0xBF6C835E#32
  | 115 => 0xBECE34D0#32
  | 116 => 0x3F6803CA#32
  | 117 => 0x3EE273AA#32
  | 118 => 0xBF631324#32
  | 119 => 0xBEF64429#32
  | 120 => 0x3F5DB3D7#32
  | 121 => 0x3F04CE53#32
  | 122 => 0xBF57E880#32
  | 123 => 0xBF0E39DA#32
  | 124 => 0x3F51B3F3#32
  | 125 => 0x3F176012#32
  | 126 => 0xBF4B1934#32
  | 127 => 0xBF203C85#32
  | _ => 0#32

noncomputable abbrev lit0t0_160 (i : Nat) : BitVec 32 := match i % 128 with
  | 0 => 0x3F441B7D#32
  | 1 => 0x3F28CAE3#32
  | 2 => 0xBF3CBE35#32
  | 3 => 0xBF310700#32
  | 4 => 0x3F3504F3#32
  | 5 => 0x3F38ECD8#32
  | 6 => 0xBF2CF37B#32
  | 7 => 0xBF407893#32
  | 8 => 0x3F248DBB#32
  | 9 => 0x3F47A682#32
  | 10 => 0xBF1BD7CA#32
  | 11 => 0xBF4E7327#32
  | 12 => 0x3F12D5E8#32
  | 13 => 0x3F54DB31#32
  | 14 => 0xBF098C78#32
  | 15 => 0xBF5ADB81#32
  | 16 => 0x3F000000#32
  | 17 => 0x3F60712A#32
  | 18 => 0xBEEC6A50#32
  | 19 => 0xBF659974#32
  | 20 => 0x3ED8616C#32
  | 21 => 0x3F6A51DA#32
  | 22 => 0xBEC3EF15#32
  | 23 => 0xBF6E9811#32
  | 24 => 0x3EAF1D44#32
  | 25 => 0x3F726A03#32
  | 26 => 0xBE99F61C#32
  | 27 => 0xBF75C5D4#32
  | 28 => 0x3E8483EE#32
  | 29 => 0x3F78A9E0#32
  | 30 => 0xBE5DA259#32
  | 31 => 0xBF7B14BE#32
  | 32 => 0x3E31D0D4#32
  | 33 => 0x3F7D0543#32
  | 34 => 0xBE05A8A8#32
  | 35 => 0xBF7E7A7A#32
  | 36 => 0x3DB27EB6#32
  | 37 => 0x3F7F73AF#32
  | 38 => 0xBD32AA3E#32
  | 39 => 0xBF7FF067#32
  | 40 => 0xA553C9CA#32
  | 41 => 0x3F7FF067#32
  | 42 => 0x3D32AA3E#32
  | 43 => 0xBF7F73AF#32
  | 44 => 0xBDB27EB6#32
  | 45 => 0x3F7E7A7A#32
  | 46 => 0x3E05A8A8#32
  | 47 => 0xBF7D0543#32
  | 48 => 0xBE31D0D4#32
  | 49 => 0x3F7B14BE#32
  | 50 => 0x3E5DA259#32
  | 51 => 0xBF78A9E0#32
  | 52 => 0xBE8483EE#32
  | 53 => 0x3F75C5D4#32
  | 54 => 0x3E99F61C#32
  | 55 => 0xBF726A03#32
  | 56 => 0xBEAF1D44#32
  | 57 => 0x3F6E9811#32
  | 58 => 0x3EC3EF15#32
  | 59 => 0xBF6A51DA#32
  | 60 => 0xBED8616C#32
  | 61 => 0x3F659974#32
  | 62 => 0x3EEC6A50#32
  | 63 => 0xBF60712A#32
  | 64 => 0xBF000000#32
  | 65 => 0x3F5ADB81#32
  | 66 => 0x3F098C78#32
  | 67 => 0xBF54DB31#32
  | 68 => 0xBF12D5E8#32
  | 69 => 0x3F4E7327#32
  | 70 => 0x3F1BD7CA#32
  | 71 => 0xBF47A682#32
  | 72 => 0xBF248DBB#32
  | 73 => 0x3F407893#32
  | 74 => 0x3F2CF37B#32
  | 75 => 0xBF38ECD8#32
  | 76 => 0xBF3504F3#32
  | 77 => 0x3F310700#32
  | 78 => 0x3F3CBE35#32
  | 79 => 0xBF28CAE3#32
  | 80 => 0xBF441B7D#32
  | 81 => 0x3F203C85#32
  | 82 => 0x3F4B1934#32
  | 83 => 0xBF176012#32
  | 84 => 0xBF51B3F3#32
  | 85 => 0x3F0E39DA#32
  | 86 => 0x3F57E880#32
  | 87 => 0xBF04CE53#32
  | 88 => 0xBF5DB3D7#32
  | 89 => 0x3EF64429#32
  | 90 => 0x3F631324#32
  | 91 => 0xBEE273AA#32
  | 92 => 0xBF6803CA#32
  | 93 => 0x3ECE34D0#32
  | 94 => 0x3F6C835E#32
  | 95 => 0xBEB9917B#32
  | 96 => 0xBF708FB2#32
  | 97 => 0x3EA493B7#32
  | 98 => 0x3F7426CB#32
  | 99 => 0xBE8F45C0#32
  | 100 => 0xBF7746EA#32
  | 101 => 0x3E7363EE#32
  | 102 => 0x3F79EE89#32
  | 103 => 0xBE47C5C2#32
  | 104 => 0xBF7C1C5C#32
  | 105 => 0x3E1BC63C#32
  | 106 => 0x3F7DCF55#32
  | 107 => 0xBDDEF599#32
  | 108 => 0xBF7F069E#32
  | 109 => 0x3D85F213#32
  | 110 => 0x3F7FC1A0#32
  | 111 => 0xBCB2B521#32
  | 112 => 0xBF800000#32
  | 113 => 0xBCB2B521#32
  | 114 => 0x3F7FC1A0#32
  | 115 => 0x3D85F213#32
  | 116 => 0xBF7F069E#32
  | 117 => 0xBDDEF599#32
  | 118 => 0x3F7DCF55#32
  | 119 => 0x3E1BC63C#32
  | 120 => 0xBF7C1C5C#32
  | 121 => 0xBE47C5C2#32
  | 122 => 0x3F79EE89#32
  | 123 => 0x3E7363EE#32
  | 124 => 0xBF7746EA#32
  | 125 => 0xBE8F45C0#32
  | 126 => 0x3F7426CB#32
  | 127 => 0x3EA493B7#32
  | _ => 0#32

noncomputable abbrev lit0t0_161 (i : Nat) : BitVec 32 := match i % 128 with
  | 0 => 0xBF708FB2#32
  | 1 => 0xBEB9917B#32
  | 2 => 0x3F6C835E#32
  | 3 => 0x3ECE34D0#32
  | 4 => 0xBF6803CA#32
  | 5 => 0xBEE273AA#32
  | 6 => 0x3F631324#32
  | 7 => 0x3EF64429#32
  | 8 => 0xBF5DB3D7#32
  | 9 => 0xBF04CE53#32
  | 10 => 0x3F57E880#32
  | 11 => 0x3F0E39DA#32
  | 12 => 0xBF51B3F3#32
  | 13 => 0xBF176012#32
  | 14 => 0x3F4B1934#32
  | 15 => 0x3F203C85#32
  | 16 => 0xBF441B7D#32
  | 17 => 0xBF28CAE3#32
  | 18 => 0x3F3CBE35#32
  | 19 => 0x3F310700#32
  | 20 => 0xBF3504F3#32
  | 21 => 0xBF38ECD8#32
  | 22 => 0x3F2CF37B#32
  | 23 => 0x3F407893#32
  | 24 => 0xBF248DBB#32
  | 25 => 0xBF47A682#32
  | 26 => 0x3F1BD7CA#32
  | 27 => 0x3F4E7327#32
  | 28 => 0xBF12D5E8#32
  | 29 => 0xBF54DB31#32
  | 30 => 0x3F098C78#32
  | 31 => 0x3F5ADB81#32
  | 32 => 0xBF000000#32
  | 33 => 0xBF60712A#32
  | 34 => 0x3EEC6A50#32
  | 35 => 0x3F659974#32
  | 36 => 0xBED8616C#32
  | 37 => 0xBF6A51DA#32
  | 38 => 0x3EC3EF15#32
  | 39 => 0x3F6E9811#32
  | 40 => 0xBEAF1D44#32
  | 41 => 0xBF726A03#32
  | 42 => 0x3E99F61C#32
  | 43 => 0x3F75C5D4#32
  | 44 => 0xBE8483EE#32
  | 45 => 0xBF78A9E0#32
  | 46 => 0x3E5DA259#32
  | 47 => 0x3F7B14BE#32
  | 48 => 0xBE31D0D4#32
  | 49 => 0xBF7D0543#32
  | 50 => 0x3E05A8A8#32
  | 51 => 0x3F7E7A7A#32
  | 52 => 0xBDB27EB6#32
  | 53 => 0xBF7F73AF#32
  | 54 => 0x3D32AA3E#32
  | 55 => 0x3F7FF067#32
  | 56 => 0x248D3132#32
  | 57 => 0xBF7FF067#32
  | 58 => 0xBD32AA3E#32
  | 59 => 0x3F7F73AF#32
  | 60 => 0x3DB27EB6#32
  | 61 => 0xBF7E7A7A#32
  | 62 => 0xBE05A8A8#32
  | 63 => 0x3F7D0543#32
  | 64 => 0x3E31D0D4#32
  | 65 => 0xBF7B14BE#32
  | 66 => 0xBE5DA259#32
  | 67 => 0x3F78A9E0#32
  | 68 => 0x3E8483EE#32
  | 69 => 0xBF75C5D4#32
  | 70 => 0xBE99F61C#32
  | 71 => 0x3F726A03#32
  | 72 => 0x3EAF1D44#32
  | 73 => 0xBF6E9811#32
  | 74 => 0xBEC3EF15#32
  | 75 => 0x3F6A51DA#32
  | 76 => 0x3ED8616C#32
  | 77 => 0xBF659974#32
  | 78 => 0xBEEC6A50#32
  | 79 => 0x3F60712A#32
  | 80 => 0x3F000000#32
  | 81 => 0xBF5ADB81#32
  | 82 => 0xBF098C78#32
  | 83 => 0x3F54DB31#32
  | 84 => 0x3F12D5E8#32
  | 85 => 0xBF4E7327#32
  | 86 => 0xBF1BD7CA#32
  | 87 => 0x3F47A682#32
  | 88 => 0x3F248DBB#32
  | 89 => 0xBF407893#32
  | 90 => 0xBF2CF37B#32
  | 91 => 0x3F38ECD8#32
  | 92 => 0x3F3504F3#32
  | 93 => 0xBF310700#32
  | 94 => 0xBF3CBE35#32
  | 95 => 0x3F28CAE3#32
  | 96 => 0x3F441B7D#32
  | 97 => 0xBF203C85#32
  | 98 => 0xBF4B1934#32
  | 99 => 0x3F176012#32
  | 100 => 0x3F51B3F3#32
  | 101 => 0xBF0E39DA#32
  | 102 => 0xBF57E880#32
  | 103 => 0x3F04CE53#32
  | 104 => 0x3F5DB3D7#32
  | 105 => 0xBEF64429#32
  | 106 => 0xBF631324#32
  | 107 => 0x3EE273AA#32
  | 108 => 0x3F6803CA#32
  | 109 => 0xBECE34D0#32
  | 110 => 0xBF6C835E#32
  | 111 => 0x3EB9917B#32
  | 112 => 0x3F708FB2#32
  | 113 => 0xBEA493B7#32
  | 114 => 0xBF7426CB#32
  | 115 => 0x3E8F45C0#32
  | 116 => 0x3F7746EA#32
  | 117 => 0xBE7363EE#32
  | 118 => 0xBF79EE89#32
  | 119 => 0x3E47C5C2#32
  | 120 => 0x3F7C1C5C#32
  | 121 => 0xBE1BC63C#32
  | 122 => 0xBF7DCF55#32
  | 123 => 0x3DDEF599#32
  | 124 => 0x3F7F069E#32
  | 125 => 0xBD85F213#32
  | 126 => 0xBF7FC1A0#32
  | 127 => 0x3CB2B521#32
  | _ => 0#32

noncomputable abbrev lit0t0_162 (i : Nat) : BitVec 32 := match i % 128 with
  | 0 => 0x3F800000#32
  | 1 => 0x248D3132#32
  | 2 => 0xBF800000#32
  | 3 => 0xA553C9CA#32
  | 4 => 0x3F800000#32
  | 5 => 0x248D3132#32
  | 6 => 0xBF800000#32
  | 7 => 0xA553C9CA#32
  | 8 => 0x3F800000#32
  | 9 => 0x248D3132#32
  | 10 => 0xBF800000#32
  | 11 => 0xA553C9CA#32
  | 12 => 0x3F800000#32
  | 13 => 0x248D3132#32
  | 14 => 0xBF800000#32
  | 15 => 0xA553C9CA#32
  | 16 => 0x3F800000#32
  | 17 => 0x248D3132#32
  | 18 => 0xBF800000#32
  | 19 => 0xA553C9CA#32
  | 20 => 0x3F800000#32
  | 21 => 0x248D3132#32
  | 22 => 0xBF800000#32
  | 23 => 0xA553C9CA#32
  | 24 => 0x3F800000#32
  | 25 => 0x248D3132#32
  | 26 => 0xBF800000#32
  | 27 => 0xA553C9CA#32
  | 28 => 0x3F800000#32
  | 29 => 0x248D3132#32
  | 30 => 0xBF800000#32
  | 31 => 0xA553C9CA#32
  | 32 => 0x3F800000#32
  | 33 => 0x248D3132#32
  | 34 => 0xBF800000#32
  | 35 => 0xA553C9CA#32
  | 36 => 0x3F800000#32
  | 37 => 0x248D3132#32
  | 38 => 0xBF800000#32
  | 39 => 0xA553C9CA#32
  | 40 => 0x3F800000#32
  | 41 => 0x248D3132#32
  | 42 => 0xBF800000#32
  | 43 => 0xA553C9CA#32
  | 44 => 0x3F800000#32
  | 45 => 0x248D3132#32
  | 46 => 0xBF800000#32
  | 47 => 0xA553C9CA#32
  | 48 => 0x3F800000#32
  | 49 => 0x248D3132#32
  | 50 => 0xBF800000#32
  | 51 => 0xA553C9CA#32
  | 52 => 0x3F800000#32
  | 53 => 0x248D3132#32
  | 54 => 0xBF800000#32
  | 55 => 0xA553C9CA#32
  | 56 => 0x3F800000#32
  | 57 => 0x248D3132#32
  | 58 => 0xBF800000#32
  | 59 => 0xA553C9CA#32
  | 60 => 0x3F800000#32
  | 61 => 0x248D3132#32
  | 62 => 0xBF800000#32
  | 63 => 0xA553C9CA#32
  | 64 => 0x3F800000#32
  | 65 => 0x248D3132#32
  | 66 => 0xBF800000#32
  | 67 => 0xA553C9CA#32
  | 68 => 0x3F800000#32
  | 69 => 0x248D3132#32
  | 70 => 0xBF800000#32
  | 71 => 0xA553C9CA#32
  | 72 => 0x3F800000#32
  | 73 => 0x248D3132#32
  | 74 => 0xBF800000#32
  | 75 => 0xA553C9CA#32
  | 76 => 0x3F800000#32
  | 77 => 0x248D3132#32
  | 78 => 0xBF800000#32
  | 79 => 0xA553C9CA#32
  | 80 => 0x3F800000#32
  | 81 => 0x248D3132#32
  | 82 => 0xBF800000#32
  | 83 => 0xA553C9CA#32
  | 84 => 0x3F800000#32
  | 85 => 0x248D3132#32
  | 86 => 0xBF800000#32
  | 87 => 0xA553C9CA#32
  | 88 => 0x3F800000#32
  | 89 => 0x248D3132#32
  | 90 => 0xBF800000#32
  | 91 => 0xA553C9CA#32
  | 92 => 0x3F800000#32
  | 93 => 0x248D3132#32
  | 94 => 0xBF800000#32
  | 95 => 0xA553C9CA#32
  | 96 => 0x3F800000#32
  | 97 => 0x248D3132#32
  | 98 => 0xBF800000#32
  | 99 => 0xA553C9CA#32
  | 100 => 0x3F800000#32
  | 101 => 0x248D3132#32
  | 102 => 0xBF800000#32
  | 103 => 0xA553C9CA#32
  | 104 => 0x3F800000#32
  | 105 => 0x248D3132#32
  | 106 => 0xBF800000#32
  | 107 => 0xA553C9CA#32
  | 108 => 0x3F800000#32
  | 109 => 0x248D3132#32
  | 110 => 0xBF800000#32
  | 111 => 0xA553C9CA#32
  | 112 => 0x3F800000#32
  | 113 => 0x248D3132#32
  | 114 => 0xBF800000#32
  | 115 => 0xA553C9CA#32
  | 116 => 0x3F800000#32
  | 117 => 0x248D3132#32
  | 118 => 0xBF800000#32
  | 119 => 0xA553C9CA#32
  | 120 => 0x3F800000#32
  | 121 => 0x248D3132#32
  | 122 => 0xBF800000#32
  | 123 => 0xA553C9CA#32
  | 124 => 0x3F800000#32
  | 125 => 0x248D3132#32
  | 126 => 0xBF800000#32
  | 127 => 0xA553C9CA#32
  | _ => 0#32

noncomputable abbrev lit0t0_163 (i : Nat) : BitVec 32 := match i % 128 with
  | 0 => 0x3F800000#32
  | 1 => 0x248D3132#32
  | 2 => 0xBF800000#32
  | 3 => 0xA553C9CA#32
  | 4 => 0x3F800000#32
  | 5 => 0x248D3132#32
  | 6 => 0xBF800000#32
  | 7 => 0xA553C9CA#32
  | 8 => 0x3F800000#32
  | 9 => 0x248D3132#32
  | 10 => 0xBF800000#32
  | 11 => 0xA553C9CA#32
  | 12 => 0x3F800000#32
  | 13 => 0x248D3132#32
  | 14 => 0xBF800000#32
  | 15 => 0xA553C9CA#32
  | 16 => 0x3F800000#32
  | 17 => 0x248D3132#32
  | 18 => 0xBF800000#32
  | 19 => 0xA553C9CA#32
  | 20 => 0x3F800000#32
  | 21 => 0x248D3132#32
  | 22 => 0xBF800000#32
  | 23 => 0xA553C9CA#32
  | 24 => 0x3F800000#32
  | 25 => 0x248D3132#32
  | 26 => 0xBF800000#32
  | 27 => 0xA553C9CA#32
  | 28 => 0x3F800000#32
  | 29 => 0x248D3132#32
  | 30 => 0xBF800000#32
  | 31 => 0xA553C9CA#32
  | 32 => 0x3F800000#32
  | 33 => 0x248D3132#32
  | 34 => 0xBF800000#32
  | 35 => 0xA553C9CA#32
  | 36 => 0x3F800000#32
  | 37 => 0x248D3132#32
  | 38 => 0xBF800000#32
  | 39 => 0xA553C9CA#32
  | 40 => 0x3F800000#32
  | 41 => 0x248D3132#32
  | 42 => 0xBF800000#32
  | 43 => 0xA553C9CA#32
  | 44 => 0x3F800000#32
  | 45 => 0x248D3132#32
  | 46 => 0xBF800000#32
  | 47 => 0xA553C9CA#32
  | 48 => 0x3F800000#32
  | 49 => 0x248D3132#32
  | 50 => 0xBF800000#32
  | 51 => 0xA553C9CA#32
  | 52 => 0x3F800000#32
  | 53 => 0x248D3132#32
  | 54 => 0xBF800000#32
  | 55 => 0xA553C9CA#32
  | 56 => 0x3F800000#32
  | 57 => 0x248D3132#32
  | 58 => 0xBF800000#32
  | 59 => 0xA553C9CA#32
  | 60 => 0x3F800000#32
  | 61 => 0x248D3132#32
  | 62 => 0xBF800000#32
  | 63 => 0xA553C9CA#32
  | 64 => 0x3F800000#32
  | 65 => 0x248D3132#32
  | 66 => 0xBF800000#32
  | 67 => 0xA553C9CA#32
  | 68 => 0x3F800000#32
  | 69 => 0x248D3132#32
  | 70 => 0xBF800000#32
  | 71 => 0xA553C9CA#32
  | 72 => 0x3F800000#32
  | 73 => 0x248D3132#32
  | 74 => 0xBF800000#32
  | 75 => 0xA553C9CA#32
  | 76 => 0x3F800000#32
  | 77 => 0x248D3132#32
  | 78 => 0xBF800000#32
  | 79 => 0xA553C9CA#32
  | 80 => 0x3F800000#32
  | 81 => 0x248D3132#32
  | 82 => 0xBF800000#32
  | 83 => 0xA553C9CA#32
  | 84 => 0x3F800000#32
  | 85 => 0x248D3132#32
  | 86 => 0xBF800000#32
  | 87 => 0xA553C9CA#32
  | 88 => 0x3F800000#32
  | 89 => 0x248D3132#32
  | 90 => 0xBF800000#32
  | 91 => 0xA553C9CA#32
  | 92 => 0x3F800000#32
  | 93 => 0x248D3132#32
  | 94 => 0xBF800000#32
  | 95 => 0xA553C9CA#32
  | 96 => 0x3F800000#32
  | 97 => 0x248D3132#32
  | 98 => 0xBF800000#32
  | 99 => 0xA553C9CA#32
  | 100 => 0x3F800000#32
  | 101 => 0x248D3132#32
  | 102 => 0xBF800000#32
  | 103 => 0xA553C9CA#32
  | 104 => 0x3F800000#32
  | 105 => 0x248D3132#32
  | 106 => 0xBF800000#32
  | 107 => 0xA553C9CA#32
  | 108 => 0x3F800000#32
  | 109 => 0x248D3132#32
  | 110 => 0xBF800000#32
  | 111 => 0xA553C9CA#32
  | 112 => 0x3F800000#32
  | 113 => 0x248D3132#32
  | 114 => 0xBF800000#32
  | 115 => 0xA553C9CA#32
  | 116 => 0x3F800000#32
  | 117 => 0x248D3132#32
  | 118 => 0xBF800000#32
  | 119 => 0xA553C9CA#32
  | 120 => 0x3F800000#32
  | 121 => 0x248D3132#32
  | 122 => 0xBF800000#32
  | 123 => 0xA553C9CA#32
  | 124 => 0x3F800000#32
  | 125 => 0x248D3132#32
  | 126 => 0xBF800000#32
  | 127 => 0xA553C9CA#32
  | _ => 0#32

noncomputable abbrev lit0t0_164 (i : Nat) : BitVec 32 := match i % 128 with
  | 0 => 0x3F800000#32
  | 1 => 0x248D3132#32
  | 2 => 0xBF800000#32
  | 3 => 0xA553C9CA#32
  | 4 => 0x3F800000#32
  | 5 => 0x248D3132#32
  | 6 => 0xBF800000#32
  | 7 => 0xA553C9CA#32
  | 8 => 0x3F800000#32
  | 9 => 0x248D3132#32
  | 10 => 0xBF800000#32
  | 11 => 0xA553C9CA#32
  | 12 => 0x3F800000#32
  | 13 => 0x248D3132#32
  | 14 => 0xBF800000#32
  | 15 => 0xA553C9CA#32
  | 16 => 0x3F800000#32
  | 17 => 0x248D3132#32
  | 18 => 0xBF800000#32
  | 19 => 0xA553C9CA#32
  | 20 => 0x3F800000#32
  | 21 => 0x248D3132#32
  | 22 => 0xBF800000#32
  | 23 => 0xA553C9CA#32
  | 24 => 0x3F800000#32
  | 25 => 0x248D3132#32
  | 26 => 0xBF800000#32
  | 27 => 0xA553C9CA#32
  | 28 => 0x3F800000#32
  | 29 => 0x248D3132#32
  | 30 => 0xBF800000#32
  | 31 => 0xA553C9CA#32
  | 32 => 0x3F800000#32
  | 33 => 0xBCB2B521#32
  | 34 => 0xBF7FC1A0#32
  | 35 => 0x3D85F213#32
  | 36 => 0x3F7F069E#32
  | 37 => 0xBDDEF599#32
  | 38 => 0xBF7DCF55#32
  | 39 => 0x3E1BC63C#32
  | 40 => 0x3F7C1C5C#32
  | 41 => 0xBE47C5C2#32
  | 42 => 0xBF79EE89#32
  | 43 => 0x3E7363EE#32
  | 44 => 0x3F7746EA#32
  | 45 => 0xBE8F45C0#32
  | 46 => 0xBF7426CB#32
  | 47 => 0x3EA493B7#32
  | 48 => 0x3F708FB2#32
  | 49 => 0xBEB9917B#32
  | 50 => 0xBF6C835E#32
  | 51 => 0x3ECE34D0#32
  | 52 => 0x3F6803CA#32
  | 53 => 0xBEE273AA#32
  | 54 => 0xBF631324#32
  | 55 => 0x3EF64429#32
  | 56 => 0x3F5DB3D7#32
  | 57 => 0xBF04CE53#32
  | 58 => 0xBF57E880#32
  | 59 => 0x3F0E39DA#32
  | 60 => 0x3F51B3F3#32
  | 61 => 0xBF176012#32
  | 62 => 0xBF4B1934#32
  | 63 => 0x3F203C85#32
  | 64 => 0x3F441B7D#32
  | 65 => 0xBF28CAE3#32
  | 66 => 0xBF3CBE35#32
  | 67 => 0x3F310700#32
  | 68 => 0x3F3504F3#32
  | 69 => 0xBF38ECD8#32
  | 70 => 0xBF2CF37B#32
  | 71 => 0x3F407893#32
  | 72 => 0x3F248DBB#32
  | 73 => 0xBF47A682#32
  | 74 => 0xBF1BD7CA#32
  | 75 => 0x3F4E7327#32
  | 76 => 0x3F12D5E8#32
  | 77 => 0xBF54DB31#32
  | 78 => 0xBF098C78#32
  | 79 => 0x3F5ADB81#32
  | 80 => 0x3F000000#32
  | 81 => 0xBF60712A#32
  | 82 => 0xBEEC6A50#32
  | 83 => 0x3F659974#32
  | 84 => 0x3ED8616C#32
  | 85 => 0xBF6A51DA#32
  | 86 => 0xBEC3EF15#32
  | 87 => 0x3F6E9811#32
  | 88 => 0x3EAF1D44#32
  | 89 => 0xBF726A03#32
  | 90 => 0xBE99F61C#32
  | 91 => 0x3F75C5D4#32
  | 92 => 0x3E8483EE#32
  | 93 => 0xBF78A9E0#32
  | 94 => 0xBE5DA259#32
  | 95 => 0x3F7B14BE#32
  | 96 => 0x3E31D0D4#32
  | 97 => 0xBF7D0543#32
  | 98 => 0xBE05A8A8#32
  | 99 => 0x3F7E7A7A#32
  | 100 => 0x3DB27EB6#32
  | 101 => 0xBF7F73AF#32
  | 102 => 0xBD32AA3E#32
  | 103 => 0x3F7FF067#32
  | 104 => 0x248D3132#32
  | 105 => 0xBF7FF067#32
  | 106 => 0x3D32AA3E#32
  | 107 => 0x3F7F73AF#32
  | 108 => 0xBDB27EB6#32
  | 109 => 0xBF7E7A7A#32
  | 110 => 0x3E05A8A8#32
  | 111 => 0x3F7D0543#32
  | 112 => 0xBE31D0D4#32
  | 113 => 0xBF7B14BE#32
  | 114 => 0x3E5DA259#32
  | 115 => 0x3F78A9E0#32
  | 116 => 0xBE8483EE#32
  | 117 => 0xBF75C5D4#32
  | 118 => 0x3E99F61C#32
  | 119 => 0x3F726A03#32
  | 120 => 0xBEAF1D44#32
  | 121 => 0xBF6E9811#32
  | 122 => 0x3EC3EF15#32
  | 123 => 0x3F6A51DA#32
  | 124 => 0xBED8616C#32
  | 125 => 0xBF659974#32
  | 126 => 0x3EEC6A50#32
  | 127 => 0x3F60712A#32
  | _ => 0#32

noncomputable abbrev lit0t0_165 (i : Nat) : BitVec 32 := match i % 128 with
  | 0 => 0xBF000000#32
  | 1 => 0xBF5ADB81#32
  | 2 => 0x3F098C78#32
  | 3 => 0x3F54DB31#32
  | 4 => 0xBF12D5E8#32
  | 5 => 0xBF4E7327#32
  | 6 => 0x3F1BD7CA#32
  | 7 => 0x3F47A682#32
  | 8 => 0xBF248DBB#32
  | 9 => 0xBF407893#32
  | 10 => 0x3F2CF37B#32
  | 11 => 0x3F38ECD8#32
  | 12 => 0xBF3504F3#32
  | 13 => 0xBF310700#32
  | 14 => 0x3F3CBE35#32
  | 15 => 0x3F28CAE3#32
  | 16 => 0xBF441B7D#32
  | 17 => 0xBF203C85#32
  | 18 => 0x3F4B1934#32
  | 19 => 0x3F176012#32
  | 20 => 0xBF51B3F3#32
  | 21 => 0xBF0E39DA#32
  | 22 => 0x3F57E880#32
  | 23 => 0x3F04CE53#32
  | 24 => 0xBF5DB3D7#32
  | 25 => 0xBEF64429#32
  | 26 => 0x3F631324#32
  | 27 => 0x3EE273AA#32
  | 28 => 0xBF6803CA#32
  | 29 => 0xBECE34D0#32
  | 30 => 0x3F6C835E#32
  | 31 => 0x3EB9917B#32
  | 32 => 0xBF708FB2#32
  | 33 => 0xBEA493B7#32
  | 34 => 0x3F7426CB#32
  | 35 => 0x3E8F45C0#32
  | 36 => 0xBF7746EA#32
  | 37 => 0xBE7363EE#32
  | 38 => 0x3F79EE89#32
  | 39 => 0x3E47C5C2#32
  | 40 => 0xBF7C1C5C#32
  | 41 => 0xBE1BC63C#32
  | 42 => 0x3F7DCF55#32
  | 43 => 0x3DDEF599#32
  | 44 => 0xBF7F069E#32
  | 45 => 0xBD85F213#32
  | 46 => 0x3F7FC1A0#32
  | 47 => 0x3CB2B521#32
  | 48 => 0xBF800000#32
  | 49 => 0x3CB2B521#32
  | 50 => 0x3F7FC1A0#32
  | 51 => 0xBD85F213#32
  | 52 => 0xBF7F069E#32
  | 53 => 0x3DDEF599#32
  | 54 => 0x3F7DCF55#32
  | 55 => 0xBE1BC63C#32
  | 56 => 0xBF7C1C5C#32
  | 57 => 0x3E47C5C2#32
  | 58 => 0x3F79EE89#32
  | 59 => 0xBE7363EE#32
  | 60 => 0xBF7746EA#32
  | 61 => 0x3E8F45C0#32
  | 62 => 0x3F7426CB#32
  | 63 => 0xBEA493B7#32
  | 64 => 0xBF708FB2#32
  | 65 => 0x3EB9917B#32
  | 66 => 0x3F6C835E#32
  | 67 => 0xBECE34D0#32
  | 68 => 0xBF6803CA#32
  | 69 => 0x3EE273AA#32
  | 70 => 0x3F631324#32
  | 71 => 0xBEF64429#32
  | 72 => 0xBF5DB3D7#32
  | 73 => 0x3F04CE53#32
  | 74 => 0x3F57E880#32
  | 75 => 0xBF0E39DA#32
  | 76 => 0xBF51B3F3#32
  | 77 => 0x3F176012#32
  | 78 => 0x3F4B1934#32
  | 79 => 0xBF203C85#32
  | 80 => 0xBF441B7D#32
  | 81 => 0x3F28CAE3#32
  | 82 => 0x3F3CBE35#32
  | 83 => 0xBF310700#32
  | 84 => 0xBF3504F3#32
  | 85 => 0x3F38ECD8#32
  | 86 => 0x3F2CF37B#32
  | 87 => 0xBF407893#32
  | 88 => 0xBF248DBB#32
  | 89 => 0x3F47A682#32
  | 90 => 0x3F1BD7CA#32
  | 91 => 0xBF4E7327#32
  | 92 => 0xBF12D5E8#32
  | 93 => 0x3F54DB31#32
  | 94 => 0x3F098C78#32
  | 95 => 0xBF5ADB81#32
  | 96 => 0xBF000000#32
  | 97 => 0x3F60712A#32
  | 98 => 0x3EEC6A50#32
  | 99 => 0xBF659974#32
  | 100 => 0xBED8616C#32
  | 101 => 0x3F6A51DA#32
  | 102 => 0x3EC3EF15#32
  | 103 => 0xBF6E9811#32
  | 104 => 0xBEAF1D44#32
  | 105 => 0x3F726A03#32
  | 106 => 0x3E99F61C#32
  | 107 => 0xBF75C5D4#32
  | 108 => 0xBE8483EE#32
  | 109 => 0x3F78A9E0#32
  | 110 => 0x3E5DA259#32
  | 111 => 0xBF7B14BE#32
  | 112 => 0xBE31D0D4#32
  | 113 => 0x3F7D0543#32
  | 114 => 0x3E05A8A8#32
  | 115 => 0xBF7E7A7A#32
  | 116 => 0xBDB27EB6#32
  | 117 => 0x3F7F73AF#32
  | 118 => 0x3D32AA3E#32
  | 119 => 0xBF7FF067#32
  | 120 => 0xA553C9CA#32
  | 121 => 0x3F7FF067#32
  | 122 => 0xBD32AA3E#32
  | 123 => 0xBF7F73AF#32
  | 124 => 0x3DB27EB6#32
  | 125 => 0x3F7E7A7A#32
  | 126 => 0xBE05A8A8#32
  | 127 => 0xBF7D0543#32
  | _ => 0#32

noncomputable abbrev lit0t0_166 (i : Nat) : BitVec 32 := match i % 128 with
  | 0 => 0x3E31D0D4#32
  | 1 => 0x3F7B14BE#32
  | 2 => 0xBE5DA259#32
  | 3 => 0xBF78A9E0#32
  | 4 => 0x3E8483EE#32
  | 5 => 0x3F75C5D4#32
  | 6 => 0xBE99F61C#32
  | 7 => 0xBF726A03#32
  | 8 => 0x3EAF1D44#32
  | 9 => 0x3F6E9811#32
  | 10 => 0xBEC3EF15#32
  | 11 => 0xBF6A51DA#32
  | 12 => 0x3ED8616C#32
  | 13 => 0x3F659974#32
  | 14 => 0xBEEC6A50#32
  | 15 => 0xBF60712A#32
  | 16 => 0x3F000000#32
  | 17 => 0x3F5ADB81#32
  | 18 => 0xBF098C78#32
  | 19 => 0xBF54DB31#32
  | 20 => 0x3F12D5E8#32
  | 21 => 0x3F4E7327#32
  | 22 => 0xBF1BD7CA#32
  | 23 => 0xBF47A682#32
  | 24 => 0x3F248DBB#32
  | 25 => 0x3F407893#32
  | 26 => 0xBF2CF37B#32
  | 27 => 0xBF38ECD8#32
  | 28 => 0x3F3504F3#32
  | 29 => 0x3F310700#32
  | 30 => 0xBF3CBE35#32
  | 31 => 0xBF28CAE3#32
  | 32 => 0x3F441B7D#32
  | 33 => 0x3F203C85#32
  | 34 => 0xBF4B1934#32
  | 35 => 0xBF176012#32
  | 36 => 0x3F51B3F3#32
  | 37 => 0x3F0E39DA#32
  | 38 => 0xBF57E880#32
  | 39 => 0xBF04CE53#32
  | 40 => 0x3F5DB3D7#32
  | 41 => 0x3EF64429#32
  | 42 => 0xBF631324#32
  | 43 => 0xBEE273AA#32
  | 44 => 0x3F6803CA#32
  | 45 => 0x3ECE34D0#32
  | 46 => 0xBF6C835E#32
  | 47 => 0xBEB9917B#32
  | 48 => 0x3F708FB2#32
  | 49 => 0x3EA493B7#32
  | 50 => 0xBF7426CB#32
  | 51 => 0xBE8F45C0#32
  | 52 => 0x3F7746EA#32
  | 53 => 0x3E7363EE#32
  | 54 => 0xBF79EE89#32
  | 55 => 0xBE47C5C2#32
  | 56 => 0x3F7C1C5C#32
  | 57 => 0x3E1BC63C#32
  | 58 => 0xBF7DCF55#32
  | 59 => 0xBDDEF599#32
  | 60 => 0x3F7F069E#32
  | 61 => 0x3D85F213#32
  | 62 => 0xBF7FC1A0#32
  | 63 => 0xBCB2B521#32
  | 64 => 0x3F800000#32
  | 65 => 0xBD32AA3E#32
  | 66 => 0xBF7F069E#32
  | 67 => 0x3E05A8A8#32
  | 68 => 0x3F7C1C5C#32
  | 69 => 0xBE5DA259#32
  | 70 => 0xBF7746EA#32
  | 71 => 0x3E99F61C#32
  | 72 => 0x3F708FB2#32
  | 73 => 0xBEC3EF15#32
  | 74 => 0xBF6803CA#32
  | 75 => 0x3EEC6A50#32
  | 76 => 0x3F5DB3D7#32
  | 77 => 0xBF098C78#32
  | 78 => 0xBF51B3F3#32
  | 79 => 0x3F1BD7CA#32
  | 80 => 0x3F441B7D#32
  | 81 => 0xBF2CF37B#32
  | 82 => 0xBF3504F3#32
  | 83 => 0x3F3CBE35#32
  | 84 => 0x3F248DBB#32
  | 85 => 0xBF4B1934#32
  | 86 => 0xBF12D5E8#32
  | 87 => 0x3F57E880#32
  | 88 => 0x3F000000#32
  | 89 => 0xBF631324#32
  | 90 => 0xBED8616C#32
  | 91 => 0x3F6C835E#32
  | 92 => 0x3EAF1D44#32
  | 93 => 0xBF7426CB#32
  | 94 => 0xBE8483EE#32
  | 95 => 0x3F79EE89#32
  | 96 => 0x3E31D0D4#32
  | 97 => 0xBF7DCF55#32
  | 98 => 0xBDB27EB6#32
  | 99 => 0x3F7FC1A0#32
  | 100 => 0x248D3132#32
  | 101 => 0xBF7FC1A0#32
  | 102 => 0x3DB27EB6#32
  | 103 => 0x3F7DCF55#32
  | 104 => 0xBE31D0D4#32
  | 105 => 0xBF79EE89#32
  | 106 => 0x3E8483EE#32
  | 107 => 0x3F7426CB#32
  | 108 => 0xBEAF1D44#32
  | 109 => 0xBF6C835E#32
  | 110 => 0x3ED8616C#32
  | 111 => 0x3F631324#32
  | 112 => 0xBF000000#32
  | 113 => 0xBF57E880#32
  | 114 => 0x3F12D5E8#32
  | 115 => 0x3F4B1934#32
  | 116 => 0xBF248DBB#32
  | 117 => 0xBF3CBE35#32
  | 118 => 0x3F3504F3#32
  | 119 => 0x3F2CF37B#32
  | 120 => 0xBF441B7D#32
  | 121 => 0xBF1BD7CA#32
  | 122 => 0x3F51B3F3#32
  | 123 => 0x3F098C78#32
  | 124 => 0xBF5DB3D7#32
  | 125 => 0xBEEC6A50#32
  | 126 => 0x3F6803CA#32
  | 127 => 0x3EC3EF15#32
  | _ => 0#32

noncomputable abbrev lit0t0_167 (i : Nat) : BitVec 32 := match i % 128 with
  | 0 => 0xBF708FB2#32
  | 1 => 0xBE99F61C#32
  | 2 => 0x3F7746EA#32
  | 3 => 0x3E5DA259#32
  | 4 => 0xBF7C1C5C#32
  | 5 => 0xBE05A8A8#32
  | 6 => 0x3F7F069E#32
  | 7 => 0x3D32AA3E#32
  | 8 => 0xBF800000#32
  | 9 => 0x3D32AA3E#32
  | 10 => 0x3F7F069E#32
  | 11 => 0xBE05A8A8#32
  | 12 => 0xBF7C1C5C#32
  | 13 => 0x3E5DA259#32
  | 14 => 0x3F7746EA#32
  | 15 => 0xBE99F61C#32
  | 16 => 0xBF708FB2#32
  | 17 => 0x3EC3EF15#32
  | 18 => 0x3F6803CA#32
  | 19 => 0xBEEC6A50#32
  | 20 => 0xBF5DB3D7#32
  | 21 => 0x3F098C78#32
  | 22 => 0x3F51B3F3#32
  | 23 => 0xBF1BD7CA#32
  | 24 => 0xBF441B7D#32
  | 25 => 0x3F2CF37B#32
  | 26 => 0x3F3504F3#32
  | 27 => 0xBF3CBE35#32
  | 28 => 0xBF248DBB#32
  | 29 => 0x3F4B1934#32
  | 30 => 0x3F12D5E8#32
  | 31 => 0xBF57E880#32
  | 32 => 0xBF000000#32
  | 33 => 0x3F631324#32
  | 34 => 0x3ED8616C#32
  | 35 => 0xBF6C835E#32
  | 36 => 0xBEAF1D44#32
  | 37 => 0x3F7426CB#32
  | 38 => 0x3E8483EE#32
  | 39 => 0xBF79EE89#32
  | 40 => 0xBE31D0D4#32
  | 41 => 0x3F7DCF55#32
  | 42 => 0x3DB27EB6#32
  | 43 => 0xBF7FC1A0#32
  | 44 => 0xA553C9CA#32
  | 45 => 0x3F7FC1A0#32
  | 46 => 0xBDB27EB6#32
  | 47 => 0xBF7DCF55#32
  | 48 => 0x3E31D0D4#32
  | 49 => 0x3F79EE89#32
  | 50 => 0xBE8483EE#32
  | 51 => 0xBF7426CB#32
  | 52 => 0x3EAF1D44#32
  | 53 => 0x3F6C835E#32
  | 54 => 0xBED8616C#32
  | 55 => 0xBF631324#32
  | 56 => 0x3F000000#32
  | 57 => 0x3F57E880#32
  | 58 => 0xBF12D5E8#32
  | 59 => 0xBF4B1934#32
  | 60 => 0x3F248DBB#32
  | 61 => 0x3F3CBE35#32
  | 62 => 0xBF3504F3#32
  | 63 => 0xBF2CF37B#32
  | 64 => 0x3F441B7D#32
  | 65 => 0x3F1BD7CA#32
  | 66 => 0xBF51B3F3#32
  | 67 => 0xBF098C78#32
  | 68 => 0x3F5DB3D7#32
  | 69 => 0x3EEC6A50#32
  | 70 => 0xBF6803CA#32
  | 71 => 0xBEC3EF15#32
  | 72 => 0x3F708FB2#32
  | 73 => 0x3E99F61C#32
  | 74 => 0xBF7746EA#32
  | 75 => 0xBE5DA259#32
  | 76 => 0x3F7C1C5C#32
  | 77 => 0x3E05A8A8#32
  | 78 => 0xBF7F069E#32
  | 79 => 0xBD32AA3E#32
  | 80 => 0x3F800000#32
  | 81 => 0xBD32AA3E#32
  | 82 => 0xBF7F069E#32
  | 83 => 0x3E05A8A8#32
  | 84 => 0x3F7C1C5C#32
  | 85 => 0xBE5DA259#32
  | 86 => 0xBF7746EA#32
  | 87 => 0x3E99F61C#32
  | 88 => 0x3F708FB2#32
  | 89 => 0xBEC3EF15#32
  | 90 => 0xBF6803CA#32
  | 91 => 0x3EEC6A50#32
  | 92 => 0x3F5DB3D7#32
  | 93 => 0xBF098C78#32
  | 94 => 0xBF51B3F3#32
  | 95 => 0x3F1BD7CA#32
  | 96 => 0x3F441B7D#32
  | 97 => 0xBF2CF37B#32
  | 98 => 0xBF3504F3#32
  | 99 => 0x3F3CBE35#32
  | 100 => 0x3F248DBB#32
  | 101 => 0xBF4B1934#32
  | 102 => 0xBF12D5E8#32
  | 103 => 0x3F57E880#32
  | 104 => 0x3F000000#32
  | 105 => 0xBF631324#32
  | 106 => 0xBED8616C#32
  | 107 => 0x3F6C835E#32
  | 108 => 0x3EAF1D44#32
  | 109 => 0xBF7426CB#32
  | 110 => 0xBE8483EE#32
  | 111 => 0x3F79EE89#32
  | 112 => 0x3E31D0D4#32
  | 113 => 0xBF7DCF55#32
  | 114 => 0xBDB27EB6#32
  | 115 => 0x3F7FC1A0#32
  | 116 => 0x248D3132#32
  | 117 => 0xBF7FC1A0#32
  | 118 => 0x3DB27EB6#32
  | 119 => 0x3F7DCF55#32
  | 120 => 0xBE31D0D4#32
  | 121 => 0xBF79EE89#32
  | 122 => 0x3E8483EE#32
  | 123 => 0x3F7426CB#32
  | 124 => 0xBEAF1D44#32
  | 125 => 0xBF6C835E#32
  | 126 => 0x3ED8616C#32
  | 127 => 0x3F631324#32
  | _ => 0#32

noncomputable abbrev lit0t0_168 (i : Nat) : BitVec 32 := match i % 128 with
  | 0 => 0xBF000000#32
  | 1 => 0xBF57E880#32
  | 2 => 0x3F12D5E8#32
  | 3 => 0x3F4B1934#32
  | 4 => 0xBF248DBB#32
  | 5 => 0xBF3CBE35#32
  | 6 => 0x3F3504F3#32
  | 7 => 0x3F2CF37B#32
  | 8 => 0xBF441B7D#32
  | 9 => 0xBF1BD7CA#32
  | 10 => 0x3F51B3F3#32
  | 11 => 0x3F098C78#32
  | 12 => 0xBF5DB3D7#32
  | 13 => 0xBEEC6A50#32
  | 14 => 0x3F6803CA#32
  | 15 => 0x3EC3EF15#32
  | 16 => 0xBF708FB2#32
  | 17 => 0xBE99F61C#32
  | 18 => 0x3F7746EA#32
  | 19 => 0x3E5DA259#32
  | 20 => 0xBF7C1C5C#32
  | 21 => 0xBE05A8A8#32
  | 22 => 0x3F7F069E#32
  | 23 => 0x3D32AA3E#32
  | 24 => 0xBF800000#32
  | 25 => 0x3D32AA3E#32
  | 26 => 0x3F7F069E#32
  | 27 => 0xBE05A8A8#32
  | 28 => 0xBF7C1C5C#32
  | 29 => 0x3E5DA259#32
  | 30 => 0x3F7746EA#32
  | 31 => 0xBE99F61C#32
  | 32 => 0xBF708FB2#32
  | 33 => 0x3EC3EF15#32
  | 34 => 0x3F6803CA#32
  | 35 => 0xBEEC6A50#32
  | 36 => 0xBF5DB3D7#32
  | 37 => 0x3F098C78#32
  | 38 => 0x3F51B3F3#32
  | 39 => 0xBF1BD7CA#32
  | 40 => 0xBF441B7D#32
  | 41 => 0x3F2CF37B#32
  | 42 => 0x3F3504F3#32
  | 43 => 0xBF3CBE35#32
  | 44 => 0xBF248DBB#32
  | 45 => 0x3F4B1934#32
  | 46 => 0x3F12D5E8#32
  | 47 => 0xBF57E880#32
  | 48 => 0xBF000000#32
  | 49 => 0x3F631324#32
  | 50 => 0x3ED8616C#32
  | 51 => 0xBF6C835E#32
  | 52 => 0xBEAF1D44#32
  | 53 => 0x3F7426CB#32
  | 54 => 0x3E8483EE#32
  | 55 => 0xBF79EE89#32
  | 56 => 0xBE31D0D4#32
  | 57 => 0x3F7DCF55#32
  | 58 => 0x3DB27EB6#32
  | 59 => 0xBF7FC1A0#32
  | 60 => 0xA553C9CA#32
  | 61 => 0x3F7FC1A0#32
  | 62 => 0xBDB27EB6#32
  | 63 => 0xBF7DCF55#32
  | 64 => 0x3E31D0D4#32
  | 65 => 0x3F79EE89#32
  | 66 => 0xBE8483EE#32
  | 67 => 0xBF7426CB#32
  | 68 => 0x3EAF1D44#32
  | 69 => 0x3F6C835E#32
  | 70 => 0xBED8616C#32
  | 71 => 0xBF631324#32
  | 72 => 0x3F000000#32
  | 73 => 0x3F57E880#32
  | 74 => 0xBF12D5E8#32
  | 75 => 0xBF4B1934#32
  | 76 => 0x3F248DBB#32
  | 77 => 0x3F3CBE35#32
  | 78 => 0xBF3504F3#32
  | 79 => 0xBF2CF37B#32
  | 80 => 0x3F441B7D#32
  | 81 => 0x3F1BD7CA#32
  | 82 => 0xBF51B3F3#32
  | 83 => 0xBF098C78#32
  | 84 => 0x3F5DB3D7#32
  | 85 => 0x3EEC6A50#32
  | 86 => 0xBF6803CA#32
  | 87 => 0xBEC3EF15#32
  | 88 => 0x3F708FB2#32
  | 89 => 0x3E99F61C#32
  | 90 => 0xBF7746EA#32
  | 91 => 0xBE5DA259#32
  | 92 => 0x3F7C1C5C#32
  | 93 => 0x3E05A8A8#32
  | 94 => 0xBF7F069E#32
  | 95 => 0xBD32AA3E#32
  | 96 => 0x3F800000#32
  | 97 => 0xBD85F213#32
  | 98 => 0xBF7DCF55#32
  | 99 => 0x3E47C5C2#32
  | 100 => 0x3F7746EA#32
  | 101 => 0xBEA493B7#32
  | 102 => 0xBF6C835E#32
  | 103 => 0x3EE273AA#32
  | 104 => 0x3F5DB3D7#32
  | 105 => 0xBF0E39DA#32
  | 106 => 0xBF4B1934#32
  | 107 => 0x3F28CAE3#32
  | 108 => 0x3F3504F3#32
  | 109 => 0xBF407893#32
  | 110 => 0xBF1BD7CA#32
  | 111 => 0x3F54DB31#32
  | 112 => 0x3F000000#32
  | 113 => 0xBF659974#32
  | 114 => 0xBEC3EF15#32
  | 115 => 0x3F726A03#32
  | 116 => 0x3E8483EE#32
  | 117 => 0xBF7B14BE#32
  | 118 => 0xBE05A8A8#32
  | 119 => 0x3F7F73AF#32
  | 120 => 0x248D3132#32
  | 121 => 0xBF7F73AF#32
  | 122 => 0x3E05A8A8#32
  | 123 => 0x3F7B14BE#32
  | 124 => 0xBE8483EE#32
  | 125 => 0xBF726A03#32
  | 126 => 0x3EC3EF15#32
  | 127 => 0x3F659974#32
  | _ => 0#32

noncomputable abbrev lit0t0_169 (i : Nat) : BitVec 32 := match i % 128 with
  | 0 => 0xBF000000#32
  | 1 => 0xBF54DB31#32
  | 2 => 0x3F1BD7CA#32
  | 3 => 0x3F407893#32
  | 4 => 0xBF3504F3#32
  | 5 => 0xBF28CAE3#32
  | 6 => 0x3F4B1934#32
  | 7 => 0x3F0E39DA#32
  | 8 => 0xBF5DB3D7#32
  | 9 => 0xBEE273AA#32
  | 10 => 0x3F6C835E#32
  | 11 => 0x3EA493B7#32
  | 12 => 0xBF7746EA#32
  | 13 => 0xBE47C5C2#32
  | 14 => 0x3F7DCF55#32
  | 15 => 0x3D85F213#32
  | 16 => 0xBF800000#32
  | 17 => 0x3D85F213#32
  | 18 => 0x3F7DCF55#32
  | 19 => 0xBE47C5C2#32
  | 20 => 0xBF7746EA#32
  | 21 => 0x3EA493B7#32
  | 22 => 0x3F6C835E#32
  | 23 => 0xBEE273AA#32
  | 24 => 0xBF5DB3D7#32
  | 25 => 0x3F0E39DA#32
  | 26 => 0x3F4B1934#32
  | 27 => 0xBF28CAE3#32
  | 28 => 0xBF3504F3#32
  | 29 => 0x3F407893#32
  | 30 => 0x3F1BD7CA#32
  | 31 => 0xBF54DB31#32
  | 32 => 0xBF000000#32
  | 33 => 0x3F659974#32
  | 34 => 0x3EC3EF15#32
  | 35 => 0xBF726A03#32
  | 36 => 0xBE8483EE#32
  | 37 => 0x3F7B14BE#32
  | 38 => 0x3E05A8A8#32
  | 39 => 0xBF7F73AF#32
  | 40 => 0xA553C9CA#32
  | 41 => 0x3F7F73AF#32
  | 42 => 0xBE05A8A8#32
  | 43 => 0xBF7B14BE#32
  | 44 => 0x3E8483EE#32
  | 45 => 0x3F726A03#32
  | 46 => 0xBEC3EF15#32
  | 47 => 0xBF659974#32
  | 48 => 0x3F000000#32
  | 49 => 0x3F54DB31#32
  | 50 => 0xBF1BD7CA#32
  | 51 => 0xBF407893#32
  | 52 => 0x3F3504F3#32
  | 53 => 0x3F28CAE3#32
  | 54 => 0xBF4B1934#32
  | 55 => 0xBF0E39DA#32
  | 56 => 0x3F5DB3D7#32
  | 57 => 0x3EE273AA#32
  | 58 => 0xBF6C835E#32
  | 59 => 0xBEA493B7#32
  | 60 => 0x3F7746EA#32
  | 61 => 0x3E47C5C2#32
  | 62 => 0xBF7DCF55#32
  | 63 => 0xBD85F213#32
  | 64 => 0x3F800000#32
  | 65 => 0xBD85F213#32
  | 66 => 0xBF7DCF55#32
  | 67 => 0x3E47C5C2#32
  | 68 => 0x3F7746EA#32
  | 69 => 0xBEA493B7#32
  | 70 => 0xBF6C835E#32
  | 71 => 0x3EE273AA#32
  | 72 => 0x3F5DB3D7#32
  | 73 => 0xBF0E39DA#32
  | 74 => 0xBF4B1934#32
  | 75 => 0x3F28CAE3#32
  | 76 => 0x3F3504F3#32
  | 77 => 0xBF407893#32
  | 78 => 0xBF1BD7CA#32
  | 79 => 0x3F54DB31#32
  | 80 => 0x3F000000#32
  | 81 => 0xBF659974#32
  | 82 => 0xBEC3EF15#32
  | 83 => 0x3F726A03#32
  | 84 => 0x3E8483EE#32
  | 85 => 0xBF7B14BE#32
  | 86 => 0xBE05A8A8#32
  | 87 => 0x3F7F73AF#32
  | 88 => 0x248D3132#32
  | 89 => 0xBF7F73AF#32
  | 90 => 0x3E05A8A8#32
  | 91 => 0x3F7B14BE#32
  | 92 => 0xBE8483EE#32
  | 93 => 0xBF726A03#32
  | 94 => 0x3EC3EF15#32
  | 95 => 0x3F659974#32
  | 96 => 0xBF000000#32
  | 97 => 0xBF54DB31#32
  | 98 => 0x3F1BD7CA#32
  | 99 => 0x3F407893#32
  | 100 => 0xBF3504F3#32
  | 101 => 0xBF28CAE3#32
  | 102 => 0x3F4B1934#32
  | 103 => 0x3F0E39DA#32
  | 104 => 0xBF5DB3D7#32
  | 105 => 0xBEE273AA#32
  | 106 => 0x3F6C835E#32
  | 107 => 0x3EA493B7#32
  | 108 => 0xBF7746EA#32
  | 109 => 0xBE47C5C2#32
  | 110 => 0x3F7DCF55#32
  | 111 => 0x3D85F213#32
  | 112 => 0xBF800000#32
  | 113 => 0x3D85F213#32
  | 114 => 0x3F7DCF55#32
  | 115 => 0xBE47C5C2#32
  | 116 => 0xBF7746EA#32
  | 117 => 0x3EA493B7#32
  | 118 => 0x3F6C835E#32
  | 119 => 0xBEE273AA#32
  | 120 => 0xBF5DB3D7#32
  | 121 => 0x3F0E39DA#32
  | 122 => 0x3F4B1934#32
  | 123 => 0xBF28CAE3#32
  | 124 => 0xBF3504F3#32
  | 125 => 0x3F407893#32
  | 126 => 0x3F1BD7CA#32
  | 127 => 0xBF54DB31#32
  | _ => 0#32

noncomputable abbrev lit0t0_170 (i : Nat) : BitVec 32 := match i % 128 with
  | 0 => 0xBF000000#32
  | 1 => 0x3F659974#32
  | 2 => 0x3EC3EF15#32
  | 3 => 0xBF726A03#32
  | 4 => 0xBE8483EE#32
  | 5 => 0x3F7B14BE#32
  | 6 => 0x3E05A8A8#32
  | 7 => 0xBF7F73AF#32
  | 8 => 0xA553C9CA#32
  | 9 => 0x3F7F73AF#32
  | 10 => 0xBE05A8A8#32
  | 11 => 0xBF7B14BE#32
  | 12 => 0x3E8483EE#32
  | 13 => 0x3F726A03#32
  | 14 => 0xBEC3EF15#32
  | 15 => 0xBF659974#32
  | 16 => 0x3F000000#32
  | 17 => 0x3F54DB31#32
  | 18 => 0xBF1BD7CA#32
  | 19 => 0xBF407893#32
  | 20 => 0x3F3504F3#32
  | 21 => 0x3F28CAE3#32
  | 22 => 0xBF4B1934#32
  | 23 => 0xBF0E39DA#32
  | 24 => 0x3F5DB3D7#32
  | 25 => 0x3EE273AA#32
  | 26 => 0xBF6C835E#32
  | 27 => 0xBEA493B7#32
  | 28 => 0x3F7746EA#32
  | 29 => 0x3E47C5C2#32
  | 30 => 0xBF7DCF55#32
  | 31 => 0xBD85F213#32
  | 32 => 0x3F800000#32
  | 33 => 0xBD85F213#32
  | 34 => 0xBF7DCF55#32
  | 35 => 0x3E47C5C2#32
  | 36 => 0x3F7746EA#32
  | 37 => 0xBEA493B7#32
  | 38 => 0xBF6C835E#32
  | 39 => 0x3EE273AA#32
  | 40 => 0x3F5DB3D7#32
  | 41 => 0xBF0E39DA#32
  | 42 => 0xBF4B1934#32
  | 43 => 0x3F28CAE3#32
  | 44 => 0x3F3504F3#32
  | 45 => 0xBF407893#32
  | 46 => 0xBF1BD7CA#32
  | 47 => 0x3F54DB31#32
  | 48 => 0x3F000000#32
  | 49 => 0xBF659974#32
  | 50 => 0xBEC3EF15#32
  | 51 => 0x3F726A03#32
  | 52 => 0x3E8483EE#32
  | 53 => 0xBF7B14BE#32
  | 54 => 0xBE05A8A8#32
  | 55 => 0x3F7F73AF#32
  | 56 => 0x248D3132#32
  | 57 => 0xBF7F73AF#32
  | 58 => 0x3E05A8A8#32
  | 59 => 0x3F7B14BE#32
  | 60 => 0xBE8483EE#32
  | 61 => 0xBF726A03#32
  | 62 => 0x3EC3EF15#32
  | 63 => 0x3F659974#32
  | 64 => 0xBF000000#32
  | 65 => 0xBF54DB31#32
  | 66 => 0x3F1BD7CA#32
  | 67 => 0x3F407893#32
  | 68 => 0xBF3504F3#32
  | 69 => 0xBF28CAE3#32
  | 70 => 0x3F4B1934#32
  | 71 => 0x3F0E39DA#32
  | 72 => 0xBF5DB3D7#32
  | 73 => 0xBEE273AA#32
  | 74 => 0x3F6C835E#32
  | 75 => 0x3EA493B7#32
  | 76 => 0xBF7746EA#32
  | 77 => 0xBE47C5C2#32
  | 78 => 0x3F7DCF55#32
  | 79 => 0x3D85F213#32
  | 80 => 0xBF800000#32
  | 81 => 0x3D85F213#32
  | 82 => 0x3F7DCF55#32
  | 83 => 0xBE47C5C2#32
  | 84 => 0xBF7746EA#32
  | 85 => 0x3EA493B7#32
  | 86 => 0x3F6C835E#32
  | 87 => 0xBEE273AA#32
  | 88 => 0xBF5DB3D7#32
  | 89 => 0x3F0E39DA#32
  | 90 => 0x3F4B1934#32
  | 91 => 0xBF28CAE3#32
  | 92 => 0xBF3504F3#32
  | 93 => 0x3F407893#32
  | 94 => 0x3F1BD7CA#32
  | 95 => 0xBF54DB31#32
  | 96 => 0xBF000000#32
  | 97 => 0x3F659974#32
  | 98 => 0x3EC3EF15#32
  | 99 => 0xBF726A03#32
  | 100 => 0xBE8483EE#32
  | 101 => 0x3F7B14BE#32
  | 102 => 0x3E05A8A8#32
  | 103 => 0xBF7F73AF#32
  | 104 => 0xA553C9CA#32
  | 105 => 0x3F7F73AF#32
  | 106 => 0xBE05A8A8#32
  | 107 => 0xBF7B14BE#32
  | 108 => 0x3E8483EE#32
  | 109 => 0x3F726A03#32
  | 110 => 0xBEC3EF15#32
  | 111 => 0xBF659974#32
  | 112 => 0x3F000000#32
  | 113 => 0x3F54DB31#32
  | 114 => 0xBF1BD7CA#32
  | 115 => 0xBF407893#32
  | 116 => 0x3F3504F3#32
  | 117 => 0x3F28CAE3#32
  | 118 => 0xBF4B1934#32
  | 119 => 0xBF0E39DA#32
  | 120 => 0x3F5DB3D7#32
  | 121 => 0x3EE273AA#32
  | 122 => 0xBF6C835E#32
  | 123 => 0xBEA493B7#32
  | 124 => 0x3F7746EA#32
  | 125 => 0x3E47C5C2#32
  | 126 => 0xBF7DCF55#32
  | 127 => 0xBD85F213#32
  | _ => 0#32

noncomputable abbrev lit0t0_171 (i : Nat) : BitVec 32 := match i % 128 with
  | 0 => 0x3F800000#32
  | 1 => 0xBDB27EB6#32
  | 2 => 0xBF7C1C5C#32
  | 3 => 0x3E8483EE#32
  | 4 => 0x3F708FB2#32
  | 5 => 0xBED8616C#32
  | 6 => 0xBF5DB3D7#32
  | 7 => 0x3F12D5E8#32
  | 8 => 0x3F441B7D#32
  | 9 => 0xBF3504F3#32
  | 10 => 0xBF248DBB#32
  | 11 => 0x3F51B3F3#32
  | 12 => 0x3F000000#32
  | 13 => 0xBF6803CA#32
  | 14 => 0xBEAF1D44#32
  | 15 => 0x3F7746EA#32
  | 16 => 0x3E31D0D4#32
  | 17 => 0xBF7F069E#32
  | 18 => 0xA553C9CA#32
  | 19 => 0x3F7F069E#32
  | 20 => 0xBE31D0D4#32
  | 21 => 0xBF7746EA#32
  | 22 => 0x3EAF1D44#32
  | 23 => 0x3F6803CA#32
  | 24 => 0xBF000000#32
  | 25 => 0xBF51B3F3#32
  | 26 => 0x3F248DBB#32
  | 27 => 0x3F3504F3#32
  | 28 => 0xBF441B7D#32
  | 29 => 0xBF12D5E8#32
  | 30 => 0x3F5DB3D7#32
  | 31 => 0x3ED8616C#32
  | 32 => 0xBF708FB2#32
  | 33 => 0xBE8483EE#32
  | 34 => 0x3F7C1C5C#32
  | 35 => 0x3DB27EB6#32
  | 36 => 0xBF800000#32
  | 37 => 0x3DB27EB6#32
  | 38 => 0x3F7C1C5C#32
  | 39 => 0xBE8483EE#32
  | 40 => 0xBF708FB2#32
  | 41 => 0x3ED8616C#32
  | 42 => 0x3F5DB3D7#32
  | 43 => 0xBF12D5E8#32
  | 44 => 0xBF441B7D#32
  | 45 => 0x3F3504F3#32
  | 46 => 0x3F248DBB#32
  | 47 => 0xBF51B3F3#32
  | 48 => 0xBF000000#32
  | 49 => 0x3F6803CA#32
  | 50 => 0x3EAF1D44#32
  | 51 => 0xBF7746EA#32
  | 52 => 0xBE31D0D4#32
  | 53 => 0x3F7F069E#32
  | 54 => 0x248D3132#32
  | 55 => 0xBF7F069E#32
  | 56 => 0x3E31D0D4#32
  | 57 => 0x3F7746EA#32
  | 58 => 0xBEAF1D44#32
  | 59 => 0xBF6803CA#32
  | 60 => 0x3F000000#32
  | 61 => 0x3F51B3F3#32
  | 62 => 0xBF248DBB#32
  | 63 => 0xBF3504F3#32
  | 64 => 0x3F441B7D#32
  | 65 => 0x3F12D5E8#32
  | 66 => 0xBF5DB3D7#32
  | 67 => 0xBED8616C#32
  | 68 => 0x3F708FB2#32
  | 69 => 0x3E8483EE#32
  | 70 => 0xBF7C1C5C#32
  | 71 => 0xBDB27EB6#32
  | 72 => 0x3F800000#32
  | 73 => 0xBDB27EB6#32
  | 74 => 0xBF7C1C5C#32
  | 75 => 0x3E8483EE#32
  | 76 => 0x3F708FB2#32
  | 77 => 0xBED8616C#32
  | 78 => 0xBF5DB3D7#32
  | 79 => 0x3F12D5E8#32
  | 80 => 0x3F441B7D#32
  | 81 => 0xBF3504F3#32
  | 82 => 0xBF248DBB#32
  | 83 => 0x3F51B3F3#32
  | 84 => 0x3F000000#32
  | 85 => 0xBF6803CA#32
  | 86 => 0xBEAF1D44#32
  | 87 => 0x3F7746EA#32
  | 88 => 0x3E31D0D4#32
  | 89 => 0xBF7F069E#32
  | 90 => 0xA553C9CA#32
  | 91 => 0x3F7F069E#32
  | 92 => 0xBE31D0D4#32
  | 93 => 0xBF7746EA#32
  | 94 => 0x3EAF1D44#32
  | 95 => 0x3F6803CA#32
  | 96 => 0xBF000000#32
  | 97 => 0xBF51B3F3#32
  | 98 => 0x3F248DBB#32
  | 99 => 0x3F3504F3#32
  | 100 => 0xBF441B7D#32
  | 101 => 0xBF12D5E8#32
  | 102 => 0x3F5DB3D7#32
  | 103 => 0x3ED8616C#32
  | 104 => 0xBF708FB2#32
  | 105 => 0xBE8483EE#32
  | 106 => 0x3F7C1C5C#32
  | 107 => 0x3DB27EB6#32
  | 108 => 0xBF800000#32
  | 109 => 0x3DB27EB6#32
  | 110 => 0x3F7C1C5C#32
  | 111 => 0xBE8483EE#32
  | 112 => 0xBF708FB2#32
  | 113 => 0x3ED8616C#32
  | 114 => 0x3F5DB3D7#32
  | 115 => 0xBF12D5E8#32
  | 116 => 0xBF441B7D#32
  | 117 => 0x3F3504F3#32
  | 118 => 0x3F248DBB#32
  | 119 => 0xBF51B3F3#32
  | 120 => 0xBF000000#32
  | 121 => 0x3F6803CA#32
  | 122 => 0x3EAF1D44#32
  | 123 => 0xBF7746EA#32
  | 124 => 0xBE31D0D4#32
  | 125 => 0x3F7F069E#32
  | 126 => 0x248D3132#32
  | 127 => 0xBF7F069E#32
  | _ => 0#32

noncomputable abbrev lit0t0_172 (i : Nat) : BitVec 32 := match i % 128 with
  | 0 => 0x3E31D0D4#32
  | 1 => 0x3F7746EA#32
  | 2 => 0xBEAF1D44#32
  | 3 => 0xBF6803CA#32
  | 4 => 0x3F000000#32
  | 5 => 0x3F51B3F3#32
  | 6 => 0xBF248DBB#32
  | 7 => 0xBF3504F3#32
  | 8 => 0x3F441B7D#32
  | 9 => 0x3F12D5E8#32
  | 10 => 0xBF5DB3D7#32
  | 11 => 0xBED8616C#32
  | 12 => 0x3F708FB2#32
  | 13 => 0x3E8483EE#32
  | 14 => 0xBF7C1C5C#32
  | 15 => 0xBDB27EB6#32
  | 16 => 0x3F800000#32
  | 17 => 0xBDB27EB6#32
  | 18 => 0xBF7C1C5C#32
  | 19 => 0x3E8483EE#32
  | 20 => 0x3F708FB2#32
  | 21 => 0xBED8616C#32
  | 22 => 0xBF5DB3D7#32
  | 23 => 0x3F12D5E8#32
  | 24 => 0x3F441B7D#32
  | 25 => 0xBF3504F3#32
  | 26 => 0xBF248DBB#32
  | 27 => 0x3F51B3F3#32
  | 28 => 0x3F000000#32
  | 29 => 0xBF6803CA#32
  | 30 => 0xBEAF1D44#32
  | 31 => 0x3F7746EA#32
  | 32 => 0x3E31D0D4#32
  | 33 => 0xBF7F069E#32
  | 34 => 0xA553C9CA#32
  | 35 => 0x3F7F069E#32
  | 36 => 0xBE31D0D4#32
  | 37 => 0xBF7746EA#32
  | 38 => 0x3EAF1D44#32
  | 39 => 0x3F6803CA#32
  | 40 => 0xBF000000#32
  | 41 => 0xBF51B3F3#32
  | 42 => 0x3F248DBB#32
  | 43 => 0x3F3504F3#32
  | 44 => 0xBF441B7D#32
  | 45 => 0xBF12D5E8#32
  | 46 => 0x3F5DB3D7#32
  | 47 => 0x3ED8616C#32
  | 48 => 0xBF708FB2#32
  | 49 => 0xBE8483EE#32
  | 50 => 0x3F7C1C5C#32
  | 51 => 0x3DB27EB6#32
  | 52 => 0xBF800000#32
  | 53 => 0x3DB27EB6#32
  | 54 => 0x3F7C1C5C#32
  | 55 => 0xBE8483EE#32
  | 56 => 0xBF708FB2#32
  | 57 => 0x3ED8616C#32
  | 58 => 0x3F5DB3D7#32
  | 59 => 0xBF12D5E8#32
  | 60 => 0xBF441B7D#32
  | 61 => 0x3F3504F3#32
  | 62 => 0x3F248DBB#32
  | 63 => 0xBF51B3F3#32
  | 64 => 0xBF000000#32
  | 65 => 0x3F6803CA#32
  | 66 => 0x3EAF1D44#32
  | 67 => 0xBF7746EA#32
  | 68 => 0xBE31D0D4#32
  | 69 => 0x3F7F069E#32
  | 70 => 0x248D3132#32
  | 71 => 0xBF7F069E#32
  | 72 => 0x3E31D0D4#32
  | 73 => 0x3F7746EA#32
  | 74 => 0xBEAF1D44#32
  | 75 => 0xBF6803CA#32
  | 76 => 0x3F000000#32
  | 77 => 0x3F51B3F3#32
  | 78 => 0xBF248DBB#32
  | 79 => 0xBF3504F3#32
  | 80 => 0x3F441B7D#32
  | 81 => 0x3F12D5E8#32
  | 82 => 0xBF5DB3D7#32
  | 83 => 0xBED8616C#32
  | 84 => 0x3F708FB2#32
  | 85 => 0x3E8483EE#32
  | 86 => 0xBF7C1C5C#32
  | 87 => 0xBDB27EB6#32
  | 88 => 0x3F800000#32
  | 89 => 0xBDB27EB6#32
  | 90 => 0xBF7C1C5C#32
  | 91 => 0x3E8483EE#32
  | 92 => 0x3F708FB2#32
  | 93 => 0xBED8616C#32
  | 94 => 0xBF5DB3D7#32
  | 95 => 0x3F12D5E8#32
  | 96 => 0x3F441B7D#32
  | 97 => 0xBF3504F3#32
  | 98 => 0xBF248DBB#32
  | 99 => 0x3F51B3F3#32
  | 100 => 0x3F000000#32
  | 101 => 0xBF6803CA#32
  | 102 => 0xBEAF1D44#32
  | 103 => 0x3F7746EA#32
  | 104 => 0x3E31D0D4#32
  | 105 => 0xBF7F069E#32
  | 106 => 0xA553C9CA#32
  | 107 => 0x3F7F069E#32
  | 108 => 0xBE31D0D4#32
  | 109 => 0xBF7746EA#32
  | 110 => 0x3EAF1D44#32
  | 111 => 0x3F6803CA#32
  | 112 => 0xBF000000#32
  | 113 => 0xBF51B3F3#32
  | 114 => 0x3F248DBB#32
  | 115 => 0x3F3504F3#32
  | 116 => 0xBF441B7D#32
  | 117 => 0xBF12D5E8#32
  | 118 => 0x3F5DB3D7#32
  | 119 => 0x3ED8616C#32
  | 120 => 0xBF708FB2#32
  | 121 => 0xBE8483EE#32
  | 122 => 0x3F7C1C5C#32
  | 123 => 0x3DB27EB6#32
  | 124 => 0xBF800000#32
  | 125 => 0x3DB27EB6#32
  | 126 => 0x3F7C1C5C#32
  | 127 => 0xBE8483EE#32
  | _ => 0#32

noncomputable abbrev lit0t0_173 (i : Nat) : BitVec 32 := match i % 128 with
  | 0 => 0xBF708FB2#32
  | 1 => 0x3ED8616C#32
  | 2 => 0x3F5DB3D7#32
  | 3 => 0xBF12D5E8#32
  | 4 => 0xBF441B7D#32
  | 5 => 0x3F3504F3#32
  | 6 => 0x3F248DBB#32
  | 7 => 0xBF51B3F3#32
  | 8 => 0xBF000000#32
  | 9 => 0x3F6803CA#32
  | 10 => 0x3EAF1D44#32
  | 11 => 0xBF7746EA#32
  | 12 => 0xBE31D0D4#32
  | 13 => 0x3F7F069E#32
  | 14 => 0x248D3132#32
  | 15 => 0xBF7F069E#32
  | 16 => 0x3E31D0D4#32
  | 17 => 0x3F7746EA#32
  | 18 => 0xBEAF1D44#32
  | 19 => 0xBF6803CA#32
  | 20 => 0x3F000000#32
  | 21 => 0x3F51B3F3#32
  | 22 => 0xBF248DBB#32
  | 23 => 0xBF3504F3#32
  | 24 => 0x3F441B7D#32
  | 25 => 0x3F12D5E8#32
  | 26 => 0xBF5DB3D7#32
  | 27 => 0xBED8616C#32
  | 28 => 0x3F708FB2#32
  | 29 => 0x3E8483EE#32
  | 30 => 0xBF7C1C5C#32
  | 31 => 0xBDB27EB6#32
  | 32 => 0x3F800000#32
  | 33 => 0xBDDEF599#32
  | 34 => 0xBF79EE89#32
  | 35 => 0x3EA493B7#32
  | 36 => 0x3F6803CA#32
  | 37 => 0xBF04CE53#32
  | 38 => 0xBF4B1934#32
  | 39 => 0x3F310700#32
  | 40 => 0x3F248DBB#32
  | 41 => 0xBF54DB31#32
  | 42 => 0xBEEC6A50#32
  | 43 => 0x3F6E9811#32
  | 44 => 0x3E8483EE#32
  | 45 => 0xBF7D0543#32
  | 46 => 0xBD32AA3E#32
  | 47 => 0x3F7F73AF#32
  | 48 => 0xBE31D0D4#32
  | 49 => 0xBF75C5D4#32
  | 50 => 0x3EC3EF15#32
  | 51 => 0x3F60712A#32
  | 52 => 0xBF12D5E8#32
  | 53 => 0xBF407893#32
  | 54 => 0x3F3CBE35#32
  | 55 => 0x3F176012#32
  | 56 => 0xBF5DB3D7#32
  | 57 => 0xBECE34D0#32
  | 58 => 0x3F7426CB#32
  | 59 => 0x3E47C5C2#32
  | 60 => 0xBF7F069E#32
  | 61 => 0x3CB2B521#32
  | 62 => 0x3F7DCF55#32
  | 63 => 0xBE7363EE#32
  | 64 => 0xBF708FB2#32
  | 65 => 0x3EE273AA#32
  | 66 => 0x3F57E880#32
  | 67 => 0xBF203C85#32
  | 68 => 0xBF3504F3#32
  | 69 => 0x3F47A682#32
  | 70 => 0x3F098C78#32
  | 71 => 0xBF659974#32
  | 72 => 0xBEAF1D44#32
  | 73 => 0x3F78A9E0#32
  | 74 => 0x3E05A8A8#32
  | 75 => 0xBF7FF067#32
  | 76 => 0x3DB27EB6#32
  | 77 => 0x3F7B14BE#32
  | 78 => 0xBE99F61C#32
  | 79 => 0xBF6A51DA#32
  | 80 => 0x3F000000#32
  | 81 => 0x3F4E7327#32
  | 82 => 0xBF2CF37B#32
  | 83 => 0xBF28CAE3#32
  | 84 => 0x3F51B3F3#32
  | 85 => 0x3EF64429#32
  | 86 => 0xBF6C835E#32
  | 87 => 0xBE8F45C0#32
  | 88 => 0x3F7C1C5C#32
  | 89 => 0x3D85F213#32
  | 90 => 0xBF7FC1A0#32
  | 91 => 0x3E1BC63C#32
  | 92 => 0x3F7746EA#32
  | 93 => 0xBEB9917B#32
  | 94 => 0xBF631324#32
  | 95 => 0x3F0E39DA#32
  | 96 => 0x3F441B7D#32
  | 97 => 0xBF38ECD8#32
  | 98 => 0xBF1BD7CA#32
  | 99 => 0x3F5ADB81#32
  | 100 => 0x3ED8616C#32
  | 101 => 0xBF726A03#32
  | 102 => 0xBE5DA259#32
  | 103 => 0x3F7E7A7A#32
  | 104 => 0x248D3132#32
  | 105 => 0xBF7E7A7A#32
  | 106 => 0x3E5DA259#32
  | 107 => 0x3F726A03#32
  | 108 => 0xBED8616C#32
  | 109 => 0xBF5ADB81#32
  | 110 => 0x3F1BD7CA#32
  | 111 => 0x3F38ECD8#32
  | 112 => 0xBF441B7D#32
  | 113 => 0xBF0E39DA#32
  | 114 => 0x3F631324#32
  | 115 => 0x3EB9917B#32
  | 116 => 0xBF7746EA#32
  | 117 => 0xBE1BC63C#32
  | 118 => 0x3F7FC1A0#32
  | 119 => 0xBD85F213#32
  | 120 => 0xBF7C1C5C#32
  | 121 => 0x3E8F45C0#32
  | 122 => 0x3F6C835E#32
  | 123 => 0xBEF64429#32
  | 124 => 0xBF51B3F3#32
  | 125 => 0x3F28CAE3#32
  | 126 => 0x3F2CF37B#32
  | 127 => 0xBF4E7327#32
  | _ => 0#32

noncomputable abbrev lit0t0_174 (i : Nat) : BitVec 32 := match i % 128 with
  | 0 => 0xBF000000#32
  | 1 => 0x3F6A51DA#32
  | 2 => 0x3E99F61C#32
  | 3 => 0xBF7B14BE#32
  | 4 => 0xBDB27EB6#32
  | 5 => 0x3F7FF067#32
  | 6 => 0xBE05A8A8#32
  | 7 => 0xBF78A9E0#32
  | 8 => 0x3EAF1D44#32
  | 9 => 0x3F659974#32
  | 10 => 0xBF098C78#32
  | 11 => 0xBF47A682#32
  | 12 => 0x3F3504F3#32
  | 13 => 0x3F203C85#32
  | 14 => 0xBF57E880#32
  | 15 => 0xBEE273AA#32
  | 16 => 0x3F708FB2#32
  | 17 => 0x3E7363EE#32
  | 18 => 0xBF7DCF55#32
  | 19 => 0xBCB2B521#32
  | 20 => 0x3F7F069E#32
  | 21 => 0xBE47C5C2#32
  | 22 => 0xBF7426CB#32
  | 23 => 0x3ECE34D0#32
  | 24 => 0x3F5DB3D7#32
  | 25 => 0xBF176012#32
  | 26 => 0xBF3CBE35#32
  | 27 => 0x3F407893#32
  | 28 => 0x3F12D5E8#32
  | 29 => 0xBF60712A#32
  | 30 => 0xBEC3EF15#32
  | 31 => 0x3F75C5D4#32
  | 32 => 0x3E31D0D4#32
  | 33 => 0xBF7F73AF#32
  | 34 => 0x3D32AA3E#32
  | 35 => 0x3F7D0543#32
  | 36 => 0xBE8483EE#32
  | 37 => 0xBF6E9811#32
  | 38 => 0x3EEC6A50#32
  | 39 => 0x3F54DB31#32
  | 40 => 0xBF248DBB#32
  | 41 => 0xBF310700#32
  | 42 => 0x3F4B1934#32
  | 43 => 0x3F04CE53#32
  | 44 => 0xBF6803CA#32
  | 45 => 0xBEA493B7#32
  | 46 => 0x3F79EE89#32
  | 47 => 0x3DDEF599#32
  | 48 => 0xBF800000#32
  | 49 => 0x3DDEF599#32
  | 50 => 0x3F79EE89#32
  | 51 => 0xBEA493B7#32
  | 52 => 0xBF6803CA#32
  | 53 => 0x3F04CE53#32
  | 54 => 0x3F4B1934#32
  | 55 => 0xBF310700#32
  | 56 => 0xBF248DBB#32
  | 57 => 0x3F54DB31#32
  | 58 => 0x3EEC6A50#32
  | 59 => 0xBF6E9811#32
  | 60 => 0xBE8483EE#32
  | 61 => 0x3F7D0543#32
  | 62 => 0x3D32AA3E#32
  | 63 => 0xBF7F73AF#32
  | 64 => 0x3E31D0D4#32
  | 65 => 0x3F75C5D4#32
  | 66 => 0xBEC3EF15#32
  | 67 => 0xBF60712A#32
  | 68 => 0x3F12D5E8#32
  | 69 => 0x3F407893#32
  | 70 => 0xBF3CBE35#32
  | 71 => 0xBF176012#32
  | 72 => 0x3F5DB3D7#32
  | 73 => 0x3ECE34D0#32
  | 74 => 0xBF7426CB#32
  | 75 => 0xBE47C5C2#32
  | 76 => 0x3F7F069E#32
  | 77 => 0xBCB2B521#32
  | 78 => 0xBF7DCF55#32
  | 79 => 0x3E7363EE#32
  | 80 => 0x3F708FB2#32
  | 81 => 0xBEE273AA#32
  | 82 => 0xBF57E880#32
  | 83 => 0x3F203C85#32
  | 84 => 0x3F3504F3#32
  | 85 => 0xBF47A682#32
  | 86 => 0xBF098C78#32
  | 87 => 0x3F659974#32
  | 88 => 0x3EAF1D44#32
  | 89 => 0xBF78A9E0#32
  | 90 => 0xBE05A8A8#32
  | 91 => 0x3F7FF067#32
  | 92 => 0xBDB27EB6#32
  | 93 => 0xBF7B14BE#32
  | 94 => 0x3E99F61C#32
  | 95 => 0x3F6A51DA#32
  | 96 => 0xBF000000#32
  | 97 => 0xBF4E7327#32
  | 98 => 0x3F2CF37B#32
  | 99 => 0x3F28CAE3#32
  | 100 => 0xBF51B3F3#32
  | 101 => 0xBEF64429#32
  | 102 => 0x3F6C835E#32
  | 103 => 0x3E8F45C0#32
  | 104 => 0xBF7C1C5C#32
  | 105 => 0xBD85F213#32
  | 106 => 0x3F7FC1A0#32
  | 107 => 0xBE1BC63C#32
  | 108 => 0xBF7746EA#32
  | 109 => 0x3EB9917B#32
  | 110 => 0x3F631324#32
  | 111 => 0xBF0E39DA#32
  | 112 => 0xBF441B7D#32
  | 113 => 0x3F38ECD8#32
  | 114 => 0x3F1BD7CA#32
  | 115 => 0xBF5ADB81#32
  | 116 => 0xBED8616C#32
  | 117 => 0x3F726A03#32
  | 118 => 0x3E5DA259#32
  | 119 => 0xBF7E7A7A#32
  | 120 => 0xA553C9CA#32
  | 121 => 0x3F7E7A7A#32
  | 122 => 0xBE5DA259#32
  | 123 => 0xBF726A03#32
  | 124 => 0x3ED8616C#32
  | 125 => 0x3F5ADB81#32
  | 126 => 0xBF1BD7CA#32
  | 127 => 0xBF38ECD8#32
  | _ => 0#32

noncomputable abbrev lit0t0_175 (i : Nat) : BitVec 32 := match i % 128 with
  | 0 => 0x3F441B7D#32
  | 1 => 0x3F0E39DA#32
  | 2 => 0xBF631324#32
  | 3 => 0xBEB9917B#32
  | 4 => 0x3F7746EA#32
  | 5 => 0x3E1BC63C#32
  | 6 => 0xBF7FC1A0#32
  | 7 => 0x3D85F213#32
  | 8 => 0x3F7C1C5C#32
  | 9 => 0xBE8F45C0#32
  | 10 => 0xBF6C835E#32
  | 11 => 0x3EF64429#32
  | 12 => 0x3F51B3F3#32
  | 13 => 0xBF28CAE3#32
  | 14 => 0xBF2CF37B#32
  | 15 => 0x3F4E7327#32
  | 16 => 0x3F000000#32
  | 17 => 0xBF6A51DA#32
  | 18 => 0xBE99F61C#32
  | 19 => 0x3F7B14BE#32
  | 20 => 0x3DB27EB6#32
  | 21 => 0xBF7FF067#32
  | 22 => 0x3E05A8A8#32
  | 23 => 0x3F78A9E0#32
  | 24 => 0xBEAF1D44#32
  | 25 => 0xBF659974#32
  | 26 => 0x3F098C78#32
  | 27 => 0x3F47A682#32
  | 28 => 0xBF3504F3#32
  | 29 => 0xBF203C85#32
  | 30 => 0x3F57E880#32
  | 31 => 0x3EE273AA#32
  | 32 => 0xBF708FB2#32
  | 33 => 0xBE7363EE#32
  | 34 => 0x3F7DCF55#32
  | 35 => 0x3CB2B521#32
  | 36 => 0xBF7F069E#32
  | 37 => 0x3E47C5C2#32
  | 38 => 0x3F7426CB#32
  | 39 => 0xBECE34D0#32
  | 40 => 0xBF5DB3D7#32
  | 41 => 0x3F176012#32
  | 42 => 0x3F3CBE35#32
  | 43 => 0xBF407893#32
  | 44 => 0xBF12D5E8#32
  | 45 => 0x3F60712A#32
  | 46 => 0x3EC3EF15#32
  | 47 => 0xBF75C5D4#32
  | 48 => 0xBE31D0D4#32
  | 49 => 0x3F7F73AF#32
  | 50 => 0xBD32AA3E#32
  | 51 => 0xBF7D0543#32
  | 52 => 0x3E8483EE#32
  | 53 => 0x3F6E9811#32
  | 54 => 0xBEEC6A50#32
  | 55 => 0xBF54DB31#32
  | 56 => 0x3F248DBB#32
  | 57 => 0x3F310700#32
  | 58 => 0xBF4B1934#32
  | 59 => 0xBF04CE53#32
  | 60 => 0x3F6803CA#32
  | 61 => 0x3EA493B7#32
  | 62 => 0xBF79EE89#32
  | 63 => 0xBDDEF599#32
  | 64 => 0x3F800000#32
  | 65 => 0xBE05A8A8#32
  | 66 => 0xBF7746EA#32
  | 67 => 0x3EC3EF15#32
  | 68 => 0x3F5DB3D7#32
  | 69 => 0xBF1BD7CA#32
  | 70 => 0xBF3504F3#32
  | 71 => 0x3F4B1934#32
  | 72 => 0x3F000000#32
  | 73 => 0xBF6C835E#32
  | 74 => 0xBE8483EE#32
  | 75 => 0x3F7DCF55#32
  | 76 => 0x248D3132#32
  | 77 => 0xBF7DCF55#32
  | 78 => 0x3E8483EE#32
  | 79 => 0x3F6C835E#32
  | 80 => 0xBF000000#32
  | 81 => 0xBF4B1934#32
  | 82 => 0x3F3504F3#32
  | 83 => 0x3F1BD7CA#32
  | 84 => 0xBF5DB3D7#32
  | 85 => 0xBEC3EF15#32
  | 86 => 0x3F7746EA#32
  | 87 => 0x3E05A8A8#32
  | 88 => 0xBF800000#32
  | 89 => 0x3E05A8A8#32
  | 90 => 0x3F7746EA#32
  | 91 => 0xBEC3EF15#32
  | 92 => 0xBF5DB3D7#32
  | 93 => 0x3F1BD7CA#32
  | 94 => 0x3F3504F3#32
  | 95 => 0xBF4B1934#32
  | 96 => 0xBF000000#32
  | 97 => 0x3F6C835E#32
  | 98 => 0x3E8483EE#32
  | 99 => 0xBF7DCF55#32
  | 100 => 0xA553C9CA#32
  | 101 => 0x3F7DCF55#32
  | 102 => 0xBE8483EE#32
  | 103 => 0xBF6C835E#32
  | 104 => 0x3F000000#32
  | 105 => 0x3F4B1934#32
  | 106 => 0xBF3504F3#32
  | 107 => 0xBF1BD7CA#32
  | 108 => 0x3F5DB3D7#32
  | 109 => 0x3EC3EF15#32
  | 110 => 0xBF7746EA#32
  | 111 => 0xBE05A8A8#32
  | 112 => 0x3F800000#32
  | 113 => 0xBE05A8A8#32
  | 114 => 0xBF7746EA#32
  | 115 => 0x3EC3EF15#32
  | 116 => 0x3F5DB3D7#32
  | 117 => 0xBF1BD7CA#32
  | 118 => 0xBF3504F3#32
  | 119 => 0x3F4B1934#32
  | 120 => 0x3F000000#32
  | 121 => 0xBF6C835E#32
  | 122 => 0xBE8483EE#32
  | 123 => 0x3F7DCF55#32
  | 124 => 0x248D3132#32
  | 125 => 0xBF7DCF55#32
  | 126 => 0x3E8483EE#32
  | 127 => 0x3F6C835E#32
  | _ => 0#32

noncomputable abbrev lit0t0_176 (i : Nat) : BitVec 32 := match i % 128 with
  | 0 => 0xBF000000#32
  | 1 => 0xBF4B1934#32
  | 2 => 0x3F3504F3#32
  | 3 => 0x3F1BD7CA#32
  | 4 => 0xBF5DB3D7#32
  | 5 => 0xBEC3EF15#32
  | 6 => 0x3F7746EA#32
  | 7 => 0x3E05A8A8#32
  | 8 => 0xBF800000#32
  | 9 => 0x3E05A8A8#32
  | 10 => 0x3F7746EA#32
  | 11 => 0xBEC3EF15#32
  | 12 => 0xBF5DB3D7#32
  | 13 => 0x3F1BD7CA#32
  | 14 => 0x3F3504F3#32
  | 15 => 0xBF4B1934#32
  | 16 => 0xBF000000#32
  | 17 => 0x3F6C835E#32
  | 18 => 0x3E8483EE#32
  | 19 => 0xBF7DCF55#32
  | 20 => 0xA553C9CA#32
  | 21 => 0x3F7DCF55#32
  | 22 => 0xBE8483EE#32
  | 23 => 0xBF6C835E#32
  | 24 => 0x3F000000#32
  | 25 => 0x3F4B1934#32
  | 26 => 0xBF3504F3#32
  | 27 => 0xBF1BD7CA#32
  | 28 => 0x3F5DB3D7#32
  | 29 => 0x3EC3EF15#32
  | 30 => 0xBF7746EA#32
  | 31 => 0xBE05A8A8#32
  | 32 => 0x3F800000#32
  | 33 => 0xBE05A8A8#32
  | 34 => 0xBF7746EA#32
  | 35 => 0x3EC3EF15#32
  | 36 => 0x3F5DB3D7#32
  | 37 => 0xBF1BD7CA#32
  | 38 => 0xBF3504F3#32
  | 39 => 0x3F4B1934#32
  | 40 => 0x3F000000#32
  | 41 => 0xBF6C835E#32
  | 42 => 0xBE8483EE#32
  | 43 => 0x3F7DCF55#32
  | 44 => 0x248D3132#32
  | 45 => 0xBF7DCF55#32
  | 46 => 0x3E8483EE#32
  | 47 => 0x3F6C835E#32
  | 48 => 0xBF000000#32
  | 49 => 0xBF4B1934#32
  | 50 => 0x3F3504F3#32
  | 51 => 0x3F1BD7CA#32
  | 52 => 0xBF5DB3D7#32
  | 53 => 0xBEC3EF15#32
  | 54 => 0x3F7746EA#32
  | 55 => 0x3E05A8A8#32
  | 56 => 0xBF800000#32
  | 57 => 0x3E05A8A8#32
  | 58 => 0x3F7746EA#32
  | 59 => 0xBEC3EF15#32
  | 60 => 0xBF5DB3D7#32
  | 61 => 0x3F1BD7CA#32
  | 62 => 0x3F3504F3#32
  | 63 => 0xBF4B1934#32
  | 64 => 0xBF000000#32
  | 65 => 0x3F6C835E#32
  | 66 => 0x3E8483EE#32
  | 67 => 0xBF7DCF55#32
  | 68 => 0xA553C9CA#32
  | 69 => 0x3F7DCF55#32
  | 70 => 0xBE8483EE#32
  | 71 => 0xBF6C835E#32
  | 72 => 0x3F000000#32
  | 73 => 0x3F4B1934#32
  | 74 => 0xBF3504F3#32
  | 75 => 0xBF1BD7CA#32
  | 76 => 0x3F5DB3D7#32
  | 77 => 0x3EC3EF15#32
  | 78 => 0xBF7746EA#32
  | 79 => 0xBE05A8A8#32
  | 80 => 0x3F800000#32
  | 81 => 0xBE05A8A8#32
  | 82 => 0xBF7746EA#32
  | 83 => 0x3EC3EF15#32
  | 84 => 0x3F5DB3D7#32
  | 85 => 0xBF1BD7CA#32
  | 86 => 0xBF3504F3#32
  | 87 => 0x3F4B1934#32
  | 88 => 0x3F000000#32
  | 89 => 0xBF6C835E#32
  | 90 => 0xBE8483EE#32
  | 91 => 0x3F7DCF55#32
  | 92 => 0x248D3132#32
  | 93 => 0xBF7DCF55#32
  | 94 => 0x3E8483EE#32
  | 95 => 0x3F6C835E#32
  | 96 => 0xBF000000#32
  | 97 => 0xBF4B1934#32
  | 98 => 0x3F3504F3#32
  | 99 => 0x3F1BD7CA#32
  | 100 => 0xBF5DB3D7#32
  | 101 => 0xBEC3EF15#32
  | 102 => 0x3F7746EA#32
  | 103 => 0x3E05A8A8#32
  | 104 => 0xBF800000#32
  | 105 => 0x3E05A8A8#32
  | 106 => 0x3F7746EA#32
  | 107 => 0xBEC3EF15#32
  | 108 => 0xBF5DB3D7#32
  | 109 => 0x3F1BD7CA#32
  | 110 => 0x3F3504F3#32
  | 111 => 0xBF4B1934#32
  | 112 => 0xBF000000#32
  | 113 => 0x3F6C835E#32
  | 114 => 0x3E8483EE#32
  | 115 => 0xBF7DCF55#32
  | 116 => 0xA553C9CA#32
  | 117 => 0x3F7DCF55#32
  | 118 => 0xBE8483EE#32
  | 119 => 0xBF6C835E#32
  | 120 => 0x3F000000#32
  | 121 => 0x3F4B1934#32
  | 122 => 0xBF3504F3#32
  | 123 => 0xBF1BD7CA#32
  | 124 => 0x3F5DB3D7#32
  | 125 => 0x3EC3EF15#32
  | 126 => 0xBF7746EA#32
  | 127 => 0xBE05A8A8#32
  | _ => 0#32

noncomputable abbrev lit0t0_177 (i : Nat) : BitVec 32 := match i % 128 with
  | 0 => 0x3F800000#32
  | 1 => 0xBE05A8A8#32
  | 2 => 0xBF7746EA#32
  | 3 => 0x3EC3EF15#32
  | 4 => 0x3F5DB3D7#32
  | 5 => 0xBF1BD7CA#32
  | 6 => 0xBF3504F3#32
  | 7 => 0x3F4B1934#32
  | 8 => 0x3F000000#32
  | 9 => 0xBF6C835E#32
  | 10 => 0xBE8483EE#32
  | 11 => 0x3F7DCF55#32
  | 12 => 0x248D3132#32
  | 13 => 0xBF7DCF55#32
  | 14 => 0x3E8483EE#32
  | 15 => 0x3F6C835E#32
  | 16 => 0xBF000000#32
  | 17 => 0xBF4B1934#32
  | 18 => 0x3F3504F3#32
  | 19 => 0x3F1BD7CA#32
  | 20 => 0xBF5DB3D7#32
  | 21 => 0xBEC3EF15#32
  | 22 => 0x3F7746EA#32
  | 23 => 0x3E05A8A8#32
  | 24 => 0xBF800000#32
  | 25 => 0x3E05A8A8#32
  | 26 => 0x3F7746EA#32
  | 27 => 0xBEC3EF15#32
  | 28 => 0xBF5DB3D7#32
  | 29 => 0x3F1BD7CA#32
  | 30 => 0x3F3504F3#32
  | 31 => 0xBF4B1934#32
  | 32 => 0xBF000000#32
  | 33 => 0x3F6C835E#32
  | 34 => 0x3E8483EE#32
  | 35 => 0xBF7DCF55#32
  | 36 => 0xA553C9CA#32
  | 37 => 0x3F7DCF55#32
  | 38 => 0xBE8483EE#32
  | 39 => 0xBF6C835E#32
  | 40 => 0x3F000000#32
  | 41 => 0x3F4B1934#32
  | 42 => 0xBF3504F3#32
  | 43 => 0xBF1BD7CA#32
  | 44 => 0x3F5DB3D7#32
  | 45 => 0x3EC3EF15#32
  | 46 => 0xBF7746EA#32
  | 47 => 0xBE05A8A8#32
  | 48 => 0x3F800000#32
  | 49 => 0xBE05A8A8#32
  | 50 => 0xBF7746EA#32
  | 51 => 0x3EC3EF15#32
  | 52 => 0x3F5DB3D7#32
  | 53 => 0xBF1BD7CA#32
  | 54 => 0xBF3504F3#32
  | 55 => 0x3F4B1934#32
  | 56 => 0x3F000000#32
  | 57 => 0xBF6C835E#32
  | 58 => 0xBE8483EE#32
  | 59 => 0x3F7DCF55#32
  | 60 => 0x248D3132#32
  | 61 => 0xBF7DCF55#32
  | 62 => 0x3E8483EE#32
  | 63 => 0x3F6C835E#32
  | 64 => 0xBF000000#32
  | 65 => 0xBF4B1934#32
  | 66 => 0x3F3504F3#32
  | 67 => 0x3F1BD7CA#32
  | 68 => 0xBF5DB3D7#32
  | 69 => 0xBEC3EF15#32
  | 70 => 0x3F7746EA#32
  | 71 => 0x3E05A8A8#32
  | 72 => 0xBF800000#32
  | 73 => 0x3E05A8A8#32
  | 74 => 0x3F7746EA#32
  | 75 => 0xBEC3EF15#32
  | 76 => 0xBF5DB3D7#32
  | 77 => 0x3F1BD7CA#32
  | 78 => 0x3F3504F3#32
  | 79 => 0xBF4B1934#32
  | 80 => 0xBF000000#32
  | 81 => 0x3F6C835E#32
  | 82 => 0x3E8483EE#32
  | 83 => 0xBF7DCF55#32
  | 84 => 0xA553C9CA#32
  | 85 => 0x3F7DCF55#32
  | 86 => 0xBE8483EE#32
  | 87 => 0xBF6C835E#32
  | 88 => 0x3F000000#32
  | 89 => 0x3F4B1934#32
  | 90 => 0xBF3504F3#32
  | 91 => 0xBF1BD7CA#32
  | 92 => 0x3F5DB3D7#32
  | 93 => 0x3EC3EF15#32
  | 94 => 0xBF7746EA#32
  | 95 => 0xBE05A8A8#32
  | 96 => 0x3F800000#32
  | 97 => 0xBE1BC63C#32
  | 98 => 0xBF7426CB#32
  | 99 => 0x3EE273AA#32
  | 100 => 0x3F51B3F3#32
  | 101 => 0xBF310700#32
  | 102 => 0xBF1BD7CA#32
  | 103 => 0x3F60712A#32
  | 104 => 0x3EAF1D44#32
  | 105 => 0xBF7B14BE#32
  | 106 => 0xBD32AA3E#32
  | 107 => 0x3F7E7A7A#32
  | 108 => 0xBE8483EE#32
  | 109 => 0xBF6A51DA#32
  | 110 => 0x3F098C78#32
  | 111 => 0x3F407893#32
  | 112 => 0xBF441B7D#32
  | 113 => 0xBF04CE53#32
  | 114 => 0x3F6C835E#32
  | 115 => 0x3E7363EE#32
  | 116 => 0xBF7F069E#32
  | 117 => 0x3D85F213#32
  | 118 => 0x3F79EE89#32
  | 119 => 0xBEB9917B#32
  | 120 => 0xBF5DB3D7#32
  | 121 => 0x3F203C85#32
  | 122 => 0x3F2CF37B#32
  | 123 => 0xBF54DB31#32
  | 124 => 0xBED8616C#32
  | 125 => 0x3F75C5D4#32
  | 126 => 0x3E05A8A8#32
  | 127 => 0xBF7FF067#32
  | _ => 0#32

noncomputable abbrev lit0t0_178 (i : Nat) : BitVec 32 := match i % 128 with
  | 0 => 0x3E31D0D4#32
  | 1 => 0x3F726A03#32
  | 2 => 0xBEEC6A50#32
  | 3 => 0xBF4E7327#32
  | 4 => 0x3F3504F3#32
  | 5 => 0x3F176012#32
  | 6 => 0xBF631324#32
  | 7 => 0xBEA493B7#32
  | 8 => 0x3F7C1C5C#32
  | 9 => 0x3CB2B521#32
  | 10 => 0xBF7DCF55#32
  | 11 => 0x3E8F45C0#32
  | 12 => 0x3F6803CA#32
  | 13 => 0xBF0E39DA#32
  | 14 => 0xBF3CBE35#32
  | 15 => 0x3F47A682#32
  | 16 => 0x3F000000#32
  | 17 => 0xBF6E9811#32
  | 18 => 0xBE5DA259#32
  | 19 => 0x3F7F73AF#32
  | 20 => 0xBDB27EB6#32
  | 21 => 0xBF78A9E0#32
  | 22 => 0x3EC3EF15#32
  | 23 => 0x3F5ADB81#32
  | 24 => 0xBF248DBB#32
  | 25 => 0xBF28CAE3#32
  | 26 => 0x3F57E880#32
  | 27 => 0x3ECE34D0#32
  | 28 => 0xBF7746EA#32
  | 29 => 0xBDDEF599#32
  | 30 => 0x3F7FC1A0#32
  | 31 => 0xBE47C5C2#32
  | 32 => 0xBF708FB2#32
  | 33 => 0x3EF64429#32
  | 34 => 0x3F4B1934#32
  | 35 => 0xBF38ECD8#32
  | 36 => 0xBF12D5E8#32
  | 37 => 0x3F659974#32
  | 38 => 0x3E99F61C#32
  | 39 => 0xBF7D0543#32
  | 40 => 0xA553C9CA#32
  | 41 => 0x3F7D0543#32
  | 42 => 0xBE99F61C#32
  | 43 => 0xBF659974#32
  | 44 => 0x3F12D5E8#32
  | 45 => 0x3F38ECD8#32
  | 46 => 0xBF4B1934#32
  | 47 => 0xBEF64429#32
  | 48 => 0x3F708FB2#32
  | 49 => 0x3E47C5C2#32
  | 50 => 0xBF7FC1A0#32
  | 51 => 0x3DDEF599#32
  | 52 => 0x3F7746EA#32
  | 53 => 0xBECE34D0#32
  | 54 => 0xBF57E880#32
  | 55 => 0x3F28CAE3#32
  | 56 => 0x3F248DBB#32
  | 57 => 0xBF5ADB81#32
  | 58 => 0xBEC3EF15#32
  | 59 => 0x3F78A9E0#32
  | 60 => 0x3DB27EB6#32
  | 61 => 0xBF7F73AF#32
  | 62 => 0x3E5DA259#32
  | 63 => 0x3F6E9811#32
  | 64 => 0xBF000000#32
  | 65 => 0xBF47A682#32
  | 66 => 0x3F3CBE35#32
  | 67 => 0x3F0E39DA#32
  | 68 => 0xBF6803CA#32
  | 69 => 0xBE8F45C0#32
  | 70 => 0x3F7DCF55#32
  | 71 => 0xBCB2B521#32
  | 72 => 0xBF7C1C5C#32
  | 73 => 0x3EA493B7#32
  | 74 => 0x3F631324#32
  | 75 => 0xBF176012#32
  | 76 => 0xBF3504F3#32
  | 77 => 0x3F4E7327#32
  | 78 => 0x3EEC6A50#32
  | 79 => 0xBF726A03#32
  | 80 => 0xBE31D0D4#32
  | 81 => 0x3F7FF067#32
  | 82 => 0xBE05A8A8#32
  | 83 => 0xBF75C5D4#32
  | 84 => 0x3ED8616C#32
  | 85 => 0x3F54DB31#32
  | 86 => 0xBF2CF37B#32
  | 87 => 0xBF203C85#32
  | 88 => 0x3F5DB3D7#32
  | 89 => 0x3EB9917B#32
  | 90 => 0xBF79EE89#32
  | 91 => 0xBD85F213#32
  | 92 => 0x3F7F069E#32
  | 93 => 0xBE7363EE#32
  | 94 => 0xBF6C835E#32
  | 95 => 0x3F04CE53#32
  | 96 => 0x3F441B7D#32
  | 97 => 0xBF407893#32
  | 98 => 0xBF098C78#32
  | 99 => 0x3F6A51DA#32
  | 100 => 0x3E8483EE#32
  | 101 => 0xBF7E7A7A#32
  | 102 => 0x3D32AA3E#32
  | 103 => 0x3F7B14BE#32
  | 104 => 0xBEAF1D44#32
  | 105 => 0xBF60712A#32
  | 106 => 0x3F1BD7CA#32
  | 107 => 0x3F310700#32
  | 108 => 0xBF51B3F3#32
  | 109 => 0xBEE273AA#32
  | 110 => 0x3F7426CB#32
  | 111 => 0x3E1BC63C#32
  | 112 => 0xBF800000#32
  | 113 => 0x3E1BC63C#32
  | 114 => 0x3F7426CB#32
  | 115 => 0xBEE273AA#32
  | 116 => 0xBF51B3F3#32
  | 117 => 0x3F310700#32
  | 118 => 0x3F1BD7CA#32
  | 119 => 0xBF60712A#32
  | 120 => 0xBEAF1D44#32
  | 121 => 0x3F7B14BE#32
  | 122 => 0x3D32AA3E#32
  | 123 => 0xBF7E7A7A#32
  | 124 => 0x3E8483EE#32
  | 125 => 0x3F6A51DA#32
  | 126 => 0xBF098C78#32
  | 127 => 0xBF407893#32
  | _ => 0#32

noncomputable abbrev lit0t0_179 (i : Nat) : BitVec 32 := match i % 128 with
  | 0 => 0x3F441B7D#32
  | 1 => 0x3F04CE53#32
  | 2 => 0xBF6C835E#32
  | 3 => 0xBE7363EE#32
  | 4 => 0x3F7F069E#32
  | 5 => 0xBD85F213#32
  | 6 => 0xBF79EE89#32
  | 7 => 0x3EB9917B#32
  | 8 => 0x3F5DB3D7#32
  | 9 => 0xBF203C85#32
  | 10 => 0xBF2CF37B#32
  | 11 => 0x3F54DB31#32
  | 12 => 0x3ED8616C#32
  | 13 => 0xBF75C5D4#32
  | 14 => 0xBE05A8A8#32
  | 15 => 0x3F7FF067#32
  | 16 => 0xBE31D0D4#32
  | 17 => 0xBF726A03#32
  | 18 => 0x3EEC6A50#32
  | 19 => 0x3F4E7327#32
  | 20 => 0xBF3504F3#32
  | 21 => 0xBF176012#32
  | 22 => 0x3F631324#32
  | 23 => 0x3EA493B7#32
  | 24 => 0xBF7C1C5C#32
  | 25 => 0xBCB2B521#32
  | 26 => 0x3F7DCF55#32
  | 27 => 0xBE8F45C0#32
  | 28 => 0xBF6803CA#32
  | 29 => 0x3F0E39DA#32
  | 30 => 0x3F3CBE35#32
  | 31 => 0xBF47A682#32
  | 32 => 0xBF000000#32
  | 33 => 0x3F6E9811#32
  | 34 => 0x3E5DA259#32
  | 35 => 0xBF7F73AF#32
  | 36 => 0x3DB27EB6#32
  | 37 => 0x3F78A9E0#32
  | 38 => 0xBEC3EF15#32
  | 39 => 0xBF5ADB81#32
  | 40 => 0x3F248DBB#32
  | 41 => 0x3F28CAE3#32
  | 42 => 0xBF57E880#32
  | 43 => 0xBECE34D0#32
  | 44 => 0x3F7746EA#32
  | 45 => 0x3DDEF599#32
  | 46 => 0xBF7FC1A0#32
  | 47 => 0x3E47C5C2#32
  | 48 => 0x3F708FB2#32
  | 49 => 0xBEF64429#32
  | 50 => 0xBF4B1934#32
  | 51 => 0x3F38ECD8#32
  | 52 => 0x3F12D5E8#32
  | 53 => 0xBF659974#32
  | 54 => 0xBE99F61C#32
  | 55 => 0x3F7D0543#32
  | 56 => 0x248D3132#32
  | 57 => 0xBF7D0543#32
  | 58 => 0x3E99F61C#32
  | 59 => 0x3F659974#32
  | 60 => 0xBF12D5E8#32
  | 61 => 0xBF38ECD8#32
  | 62 => 0x3F4B1934#32
  | 63 => 0x3EF64429#32
  | 64 => 0xBF708FB2#32
  | 65 => 0xBE47C5C2#32
  | 66 => 0x3F7FC1A0#32
  | 67 => 0xBDDEF599#32
  | 68 => 0xBF7746EA#32
  | 69 => 0x3ECE34D0#32
  | 70 => 0x3F57E880#32
  | 71 => 0xBF28CAE3#32
  | 72 => 0xBF248DBB#32
  | 73 => 0x3F5ADB81#32
  | 74 => 0x3EC3EF15#32
  | 75 => 0xBF78A9E0#32
  | 76 => 0xBDB27EB6#32
  | 77 => 0x3F7F73AF#32
  | 78 => 0xBE5DA259#32
  | 79 => 0xBF6E9811#32
  | 80 => 0x3F000000#32
  | 81 => 0x3F47A682#32
  | 82 => 0xBF3CBE35#32
  | 83 => 0xBF0E39DA#32
  | 84 => 0x3F6803CA#32
  | 85 => 0x3E8F45C0#32
  | 86 => 0xBF7DCF55#32
  | 87 => 0x3CB2B521#32
  | 88 => 0x3F7C1C5C#32
  | 89 => 0xBEA493B7#32
  | 90 => 0xBF631324#32
  | 91 => 0x3F176012#32
  | 92 => 0x3F3504F3#32
  | 93 => 0xBF4E7327#32
  | 94 => 0xBEEC6A50#32
  | 95 => 0x3F726A03#32
  | 96 => 0x3E31D0D4#32
  | 97 => 0xBF7FF067#32
  | 98 => 0x3E05A8A8#32
  | 99 => 0x3F75C5D4#32
  | 100 => 0xBED8616C#32
  | 101 => 0xBF54DB31#32
  | 102 => 0x3F2CF37B#32
  | 103 => 0x3F203C85#32
  | 104 => 0xBF5DB3D7#32
  | 105 => 0xBEB9917B#32
  | 106 => 0x3F79EE89#32
  | 107 => 0x3D85F213#32
  | 108 => 0xBF7F069E#32
  | 109 => 0x3E7363EE#32
  | 110 => 0x3F6C835E#32
  | 111 => 0xBF04CE53#32
  | 112 => 0xBF441B7D#32
  | 113 => 0x3F407893#32
  | 114 => 0x3F098C78#32
  | 115 => 0xBF6A51DA#32
  | 116 => 0xBE8483EE#32
  | 117 => 0x3F7E7A7A#32
  | 118 => 0xBD32AA3E#32
  | 119 => 0xBF7B14BE#32
  | 120 => 0x3EAF1D44#32
  | 121 => 0x3F60712A#32
  | 122 => 0xBF1BD7CA#32
  | 123 => 0xBF310700#32
  | 124 => 0x3F51B3F3#32
  | 125 => 0x3EE273AA#32
  | 126 => 0xBF7426CB#32
  | 127 => 0xBE1BC63C#32
  | _ => 0#32

noncomputable abbrev lit0t0_180 (i : Nat) : BitVec 32 := match i % 128 with
  | 0 => 0x3F800000#32
  | 1 => 0xBE31D0D4#32
  | 2 => 0xBF708FB2#32
  | 3 => 0x3F000000#32
  | 4 => 0x3F441B7D#32
  | 5 => 0xBF441B7D#32
  | 6 => 0xBF000000#32
  | 7 => 0x3F708FB2#32
  | 8 => 0x3E31D0D4#32
  | 9 => 0xBF800000#32
  | 10 => 0x3E31D0D4#32
  | 11 => 0x3F708FB2#32
  | 12 => 0xBF000000#32
  | 13 => 0xBF441B7D#32
  | 14 => 0x3F441B7D#32
  | 15 => 0x3F000000#32
  | 16 => 0xBF708FB2#32
  | 17 => 0xBE31D0D4#32
  | 18 => 0x3F800000#32
  | 19 => 0xBE31D0D4#32
  | 20 => 0xBF708FB2#32
  | 21 => 0x3F000000#32
  | 22 => 0x3F441B7D#32
  | 23 => 0xBF441B7D#32
  | 24 => 0xBF000000#32
  | 25 => 0x3F708FB2#32
  | 26 => 0x3E31D0D4#32
  | 27 => 0xBF800000#32
  | 28 => 0x3E31D0D4#32
  | 29 => 0x3F708FB2#32
  | 30 => 0xBF000000#32
  | 31 => 0xBF441B7D#32
  | 32 => 0x3F441B7D#32
  | 33 => 0x3F000000#32
  | 34 => 0xBF708FB2#32
  | 35 => 0xBE31D0D4#32
  | 36 => 0x3F800000#32
  | 37 => 0xBE31D0D4#32
  | 38 => 0xBF708FB2#32
  | 39 => 0x3F000000#32
  | 40 => 0x3F441B7D#32
  | 41 => 0xBF441B7D#32
  | 42 => 0xBF000000#32
  | 43 => 0x3F708FB2#32
  | 44 => 0x3E31D0D4#32
  | 45 => 0xBF800000#32
  | 46 => 0x3E31D0D4#32
  | 47 => 0x3F708FB2#32
  | 48 => 0xBF000000#32
  | 49 => 0xBF441B7D#32
  | 50 => 0x3F441B7D#32
  | 51 => 0x3F000000#32
  | 52 => 0xBF708FB2#32
  | 53 => 0xBE31D0D4#32
  | 54 => 0x3F800000#32
  | 55 => 0xBE31D0D4#32
  | 56 => 0xBF708FB2#32
  | 57 => 0x3F000000#32
  | 58 => 0x3F441B7D#32
  | 59 => 0xBF441B7D#32
  | 60 => 0xBF000000#32
  | 61 => 0x3F708FB2#32
  | 62 => 0x3E31D0D4#32
  | 63 => 0xBF800000#32
  | 64 => 0x3E31D0D4#32
  | 65 => 0x3F708FB2#32
  | 66 => 0xBF000000#32
  | 67 => 0xBF441B7D#32
  | 68 => 0x3F441B7D#32
  | 69 => 0x3F000000#32
  | 70 => 0xBF708FB2#32
  | 71 => 0xBE31D0D4#32
  | 72 => 0x3F800000#32
  | 73 => 0xBE31D0D4#32
  | 74 => 0xBF708FB2#32
  | 75 => 0x3F000000#32
  | 76 => 0x3F441B7D#32
  | 77 => 0xBF441B7D#32
  | 78 => 0xBF000000#32
  | 79 => 0x3F708FB2#32
  | 80 => 0x3E31D0D4#32
  | 81 => 0xBF800000#32
  | 82 => 0x3E31D0D4#32
  | 83 => 0x3F708FB2#32
  | 84 => 0xBF000000#32
  | 85 => 0xBF441B7D#32
  | 86 => 0x3F441B7D#32
  | 87 => 0x3F000000#32
  | 88 => 0xBF708FB2#32
  | 89 => 0xBE31D0D4#32
  | 90 => 0x3F800000#32
  | 91 => 0xBE31D0D4#32
  | 92 => 0xBF708FB2#32
  | 93 => 0x3F000000#32
  | 94 => 0x3F441B7D#32
  | 95 => 0xBF441B7D#32
  | 96 => 0xBF000000#32
  | 97 => 0x3F708FB2#32
  | 98 => 0x3E31D0D4#32
  | 99 => 0xBF800000#32
  | 100 => 0x3E31D0D4#32
  | 101 => 0x3F708FB2#32
  | 102 => 0xBF000000#32
  | 103 => 0xBF441B7D#32
  | 104 => 0x3F441B7D#32
  | 105 => 0x3F000000#32
  | 106 => 0xBF708FB2#32
  | 107 => 0xBE31D0D4#32
  | 108 => 0x3F800000#32
  | 109 => 0xBE31D0D4#32
  | 110 => 0xBF708FB2#32
  | 111 => 0x3F000000#32
  | 112 => 0x3F441B7D#32
  | 113 => 0xBF441B7D#32
  | 114 => 0xBF000000#32
  | 115 => 0x3F708FB2#32
  | 116 => 0x3E31D0D4#32
  | 117 => 0xBF800000#32
  | 118 => 0x3E31D0D4#32
  | 119 => 0x3F708FB2#32
  | 120 => 0xBF000000#32
  | 121 => 0xBF441B7D#32
  | 122 => 0x3F441B7D#32
  | 123 => 0x3F000000#32
  | 124 => 0xBF708FB2#32
  | 125 => 0xBE31D0D4#32
  | 126 => 0x3F800000#32
  | 127 => 0xBE31D0D4#32
  | _ => 0#32

noncomputable abbrev lit0t0_181 (i : Nat) : BitVec 32 := match i % 128 with
  | 0 => 0xBF708FB2#32
  | 1 => 0x3F000000#32
  | 2 => 0x3F441B7D#32
  | 3 => 0xBF441B7D#32
  | 4 => 0xBF000000#32
  | 5 => 0x3F708FB2#32
  | 6 => 0x3E31D0D4#32
  | 7 => 0xBF800000#32
  | 8 => 0x3E31D0D4#32
  | 9 => 0x3F708FB2#32
  | 10 => 0xBF000000#32
  | 11 => 0xBF441B7D#32
  | 12 => 0x3F441B7D#32
  | 13 => 0x3F000000#32
  | 14 => 0xBF708FB2#32
  | 15 => 0xBE31D0D4#32
  | 16 => 0x3F800000#32
  | 17 => 0xBE31D0D4#32
  | 18 => 0xBF708FB2#32
  | 19 => 0x3F000000#32
  | 20 => 0x3F441B7D#32
  | 21 => 0xBF441B7D#32
  | 22 => 0xBF000000#32
  | 23 => 0x3F708FB2#32
  | 24 => 0x3E31D0D4#32
  | 25 => 0xBF800000#32
  | 26 => 0x3E31D0D4#32
  | 27 => 0x3F708FB2#32
  | 28 => 0xBF000000#32
  | 29 => 0xBF441B7D#32
  | 30 => 0x3F441B7D#32
  | 31 => 0x3F000000#32
  | 32 => 0xBF708FB2#32
  | 33 => 0xBE31D0D4#32
  | 34 => 0x3F800000#32
  | 35 => 0xBE31D0D4#32
  | 36 => 0xBF708FB2#32
  | 37 => 0x3F000000#32
  | 38 => 0x3F441B7D#32
  | 39 => 0xBF441B7D#32
  | 40 => 0xBF000000#32
  | 41 => 0x3F708FB2#32
  | 42 => 0x3E31D0D4#32
  | 43 => 0xBF800000#32
  | 44 => 0x3E31D0D4#32
  | 45 => 0x3F708FB2#32
  | 46 => 0xBF000000#32
  | 47 => 0xBF441B7D#32
  | 48 => 0x3F441B7D#32
  | 49 => 0x3F000000#32
  | 50 => 0xBF708FB2#32
  | 51 => 0xBE31D0D4#32
  | 52 => 0x3F800000#32
  | 53 => 0xBE31D0D4#32
  | 54 => 0xBF708FB2#32
  | 55 => 0x3F000000#32
  | 56 => 0x3F441B7D#32
  | 57 => 0xBF441B7D#32
  | 58 => 0xBF000000#32
  | 59 => 0x3F708FB2#32
  | 60 => 0x3E31D0D4#32
  | 61 => 0xBF800000#32
  | 62 => 0x3E31D0D4#32
  | 63 => 0x3F708FB2#32
  | 64 => 0xBF000000#32
  | 65 => 0xBF441B7D#32
  | 66 => 0x3F441B7D#32
  | 67 => 0x3F000000#32
  | 68 => 0xBF708FB2#32
  | 69 => 0xBE31D0D4#32
  | 70 => 0x3F800000#32
  | 71 => 0xBE31D0D4#32
  | 72 => 0xBF708FB2#32
  | 73 => 0x3F000000#32
  | 74 => 0x3F441B7D#32
  | 75 => 0xBF441B7D#32
  | 76 => 0xBF000000#32
  | 77 => 0x3F708FB2#32
  | 78 => 0x3E31D0D4#32
  | 79 => 0xBF800000#32
  | 80 => 0x3E31D0D4#32
  | 81 => 0x3F708FB2#32
  | 82 => 0xBF000000#32
  | 83 => 0xBF441B7D#32
  | 84 => 0x3F441B7D#32
  | 85 => 0x3F000000#32
  | 86 => 0xBF708FB2#32
  | 87 => 0xBE31D0D4#32
  | 88 => 0x3F800000#32
  | 89 => 0xBE31D0D4#32
  | 90 => 0xBF708FB2#32
  | 91 => 0x3F000000#32
  | 92 => 0x3F441B7D#32
  | 93 => 0xBF441B7D#32
  | 94 => 0xBF000000#32
  | 95 => 0x3F708FB2#32
  | 96 => 0x3E31D0D4#32
  | 97 => 0xBF800000#32
  | 98 => 0x3E31D0D4#32
  | 99 => 0x3F708FB2#32
  | 100 => 0xBF000000#32
  | 101 => 0xBF441B7D#32
  | 102 => 0x3F441B7D#32
  | 103 => 0x3F000000#32
  | 104 => 0xBF708FB2#32
  | 105 => 0xBE31D0D4#32
  | 106 => 0x3F800000#32
  | 107 => 0xBE31D0D4#32
  | 108 => 0xBF708FB2#32
  | 109 => 0x3F000000#32
  | 110 => 0x3F441B7D#32
  | 111 => 0xBF441B7D#32
  | 112 => 0xBF000000#32
  | 113 => 0x3F708FB2#32
  | 114 => 0x3E31D0D4#32
  | 115 => 0xBF800000#32
  | 116 => 0x3E31D0D4#32
  | 117 => 0x3F708FB2#32
  | 118 => 0xBF000000#32
  | 119 => 0xBF441B7D#32
  | 120 => 0x3F441B7D#32
  | 121 => 0x3F000000#32
  | 122 => 0xBF708FB2#32
  | 123 => 0xBE31D0D4#32
  | 124 => 0x3F800000#32
  | 125 => 0xBE31D0D4#32
  | 126 => 0xBF708FB2#32
  | 127 => 0x3F000000#32
  | _ => 0#32

noncomputable abbrev lit0t0_182 (i : Nat) : BitVec 32 := match i % 128 with
  | 0 => 0x3F441B7D#32
  | 1 => 0xBF441B7D#32
  | 2 => 0xBF000000#32
  | 3 => 0x3F708FB2#32
  | 4 => 0x3E31D0D4#32
  | 5 => 0xBF800000#32
  | 6 => 0x3E31D0D4#32
  | 7 => 0x3F708FB2#32
  | 8 => 0xBF000000#32
  | 9 => 0xBF441B7D#32
  | 10 => 0x3F441B7D#32
  | 11 => 0x3F000000#32
  | 12 => 0xBF708FB2#32
  | 13 => 0xBE31D0D4#32
  | 14 => 0x3F800000#32
  | 15 => 0xBE31D0D4#32
  | 16 => 0xBF708FB2#32
  | 17 => 0x3F000000#32
  | 18 => 0x3F441B7D#32
  | 19 => 0xBF441B7D#32
  | 20 => 0xBF000000#32
  | 21 => 0x3F708FB2#32
  | 22 => 0x3E31D0D4#32
  | 23 => 0xBF800000#32
  | 24 => 0x3E31D0D4#32
  | 25 => 0x3F708FB2#32
  | 26 => 0xBF000000#32
  | 27 => 0xBF441B7D#32
  | 28 => 0x3F441B7D#32
  | 29 => 0x3F000000#32
  | 30 => 0xBF708FB2#32
  | 31 => 0xBE31D0D4#32
  | 32 => 0x3F800000#32
  | 33 => 0xBE47C5C2#32
  | 34 => 0xBF6C835E#32
  | 35 => 0x3F0E39DA#32
  | 36 => 0x3F3504F3#32
  | 37 => 0xBF54DB31#32
  | 38 => 0xBEC3EF15#32
  | 39 => 0x3F7B14BE#32
  | 40 => 0x248D3132#32
  | 41 => 0xBF7B14BE#32
  | 42 => 0x3EC3EF15#32
  | 43 => 0x3F54DB31#32
  | 44 => 0xBF3504F3#32
  | 45 => 0xBF0E39DA#32
  | 46 => 0x3F6C835E#32
  | 47 => 0x3E47C5C2#32
  | 48 => 0xBF800000#32
  | 49 => 0x3E47C5C2#32
  | 50 => 0x3F6C835E#32
  | 51 => 0xBF0E39DA#32
  | 52 => 0xBF3504F3#32
  | 53 => 0x3F54DB31#32
  | 54 => 0x3EC3EF15#32
  | 55 => 0xBF7B14BE#32
  | 56 => 0xA553C9CA#32
  | 57 => 0x3F7B14BE#32
  | 58 => 0xBEC3EF15#32
  | 59 => 0xBF54DB31#32
  | 60 => 0x3F3504F3#32
  | 61 => 0x3F0E39DA#32
  | 62 => 0xBF6C835E#32
  | 63 => 0xBE47C5C2#32
  | 64 => 0x3F800000#32
  | 65 => 0xBE47C5C2#32
  | 66 => 0xBF6C835E#32
  | 67 => 0x3F0E39DA#32
  | 68 => 0x3F3504F3#32
  | 69 => 0xBF54DB31#32
  | 70 => 0xBEC3EF15#32
  | 71 => 0x3F7B14BE#32
  | 72 => 0x248D3132#32
  | 73 => 0xBF7B14BE#32
  | 74 => 0x3EC3EF15#32
  | 75 => 0x3F54DB31#32
  | 76 => 0xBF3504F3#32
  | 77 => 0xBF0E39DA#32
  | 78 => 0x3F6C835E#32
  | 79 => 0x3E47C5C2#32
  | 80 => 0xBF800000#32
  | 81 => 0x3E47C5C2#32
  | 82 => 0x3F6C835E#32
  | 83 => 0xBF0E39DA#32
  | 84 => 0xBF3504F3#32
  | 85 => 0x3F54DB31#32
  | 86 => 0x3EC3EF15#32
  | 87 => 0xBF7B14BE#32
  | 88 => 0xA553C9CA#32
  | 89 => 0x3F7B14BE#32
  | 90 => 0xBEC3EF15#32
  | 91 => 0xBF54DB31#32
  | 92 => 0x3F3504F3#32
  | 93 => 0x3F0E39DA#32
  | 94 => 0xBF6C835E#32
  | 95 => 0xBE47C5C2#32
  | 96 => 0x3F800000#32
  | 97 => 0xBE47C5C2#32
  | 98 => 0xBF6C835E#32
  | 99 => 0x3F0E39DA#32
  | 100 => 0x3F3504F3#32
  | 101 => 0xBF54DB31#32
  | 102 => 0xBEC3EF15#32
  | 103 => 0x3F7B14BE#32
  | 104 => 0x248D3132#32
  | 105 => 0xBF7B14BE#32
  | 106 => 0x3EC3EF15#32
  | 107 => 0x3F54DB31#32
  | 108 => 0xBF3504F3#32
  | 109 => 0xBF0E39DA#32
  | 110 => 0x3F6C835E#32
  | 111 => 0x3E47C5C2#32
  | 112 => 0xBF800000#32
  | 113 => 0x3E47C5C2#32
  | 114 => 0x3F6C835E#32
  | 115 => 0xBF0E39DA#32
  | 116 => 0xBF3504F3#32
  | 117 => 0x3F54DB31#32
  | 118 => 0x3EC3EF15#32
  | 119 => 0xBF7B14BE#32
  | 120 => 0xA553C9CA#32
  | 121 => 0x3F7B14BE#32
  | 122 => 0xBEC3EF15#32
  | 123 => 0xBF54DB31#32
  | 124 => 0x3F3504F3#32
  | 125 => 0x3F0E39DA#32
  | 126 => 0xBF6C835E#32
  | 127 => 0xBE47C5C2#32
  | _ => 0#32

noncomputable abbrev lit0t0_183 (i : Nat) : BitVec 32 := match i % 128 with
  | 0 => 0x3F800000#32
  | 1 => 0xBE47C5C2#32
  | 2 => 0xBF6C835E#32
  | 3 => 0x3F0E39DA#32
  | 4 => 0x3F3504F3#32
  | 5 => 0xBF54DB31#32
  | 6 => 0xBEC3EF15#32
  | 7 => 0x3F7B14BE#32
  | 8 => 0x248D3132#32
  | 9 => 0xBF7B14BE#32
  | 10 => 0x3EC3EF15#32
  | 11 => 0x3F54DB31#32
  | 12 => 0xBF3504F3#32
  | 13 => 0xBF0E39DA#32
  | 14 => 0x3F6C835E#32
  | 15 => 0x3E47C5C2#32
  | 16 => 0xBF800000#32
  | 17 => 0x3E47C5C2#32
  | 18 => 0x3F6C835E#32
  | 19 => 0xBF0E39DA#32
  | 20 => 0xBF3504F3#32
  | 21 => 0x3F54DB31#32
  | 22 => 0x3EC3EF15#32
  | 23 => 0xBF7B14BE#32
  | 24 => 0xA553C9CA#32
  | 25 => 0x3F7B14BE#32
  | 26 => 0xBEC3EF15#32
  | 27 => 0xBF54DB31#32
  | 28 => 0x3F3504F3#32
  | 29 => 0x3F0E39DA#32
  | 30 => 0xBF6C835E#32
  | 31 => 0xBE47C5C2#32
  | 32 => 0x3F800000#32
  | 33 => 0xBE47C5C2#32
  | 34 => 0xBF6C835E#32
  | 35 => 0x3F0E39DA#32
  | 36 => 0x3F3504F3#32
  | 37 => 0xBF54DB31#32
  | 38 => 0xBEC3EF15#32
  | 39 => 0x3F7B14BE#32
  | 40 => 0x248D3132#32
  | 41 => 0xBF7B14BE#32
  | 42 => 0x3EC3EF15#32
  | 43 => 0x3F54DB31#32
  | 44 => 0xBF3504F3#32
  | 45 => 0xBF0E39DA#32
  | 46 => 0x3F6C835E#32
  | 47 => 0x3E47C5C2#32
  | 48 => 0xBF800000#32
  | 49 => 0x3E47C5C2#32
  | 50 => 0x3F6C835E#32
  | 51 => 0xBF0E39DA#32
  | 52 => 0xBF3504F3#32
  | 53 => 0x3F54DB31#32
  | 54 => 0x3EC3EF15#32
  | 55 => 0xBF7B14BE#32
  | 56 => 0xA553C9CA#32
  | 57 => 0x3F7B14BE#32
  | 58 => 0xBEC3EF15#32
  | 59 => 0xBF54DB31#32
  | 60 => 0x3F3504F3#32
  | 61 => 0x3F0E39DA#32
  | 62 => 0xBF6C835E#32
  | 63 => 0xBE47C5C2#32
  | 64 => 0x3F800000#32
  | 65 => 0xBE47C5C2#32
  | 66 => 0xBF6C835E#32
  | 67 => 0x3F0E39DA#32
  | 68 => 0x3F3504F3#32
  | 69 => 0xBF54DB31#32
  | 70 => 0xBEC3EF15#32
  | 71 => 0x3F7B14BE#32
  | 72 => 0x248D3132#32
  | 73 => 0xBF7B14BE#32
  | 74 => 0x3EC3EF15#32
  | 75 => 0x3F54DB31#32
  | 76 => 0xBF3504F3#32
  | 77 => 0xBF0E39DA#32
  | 78 => 0x3F6C835E#32
  | 79 => 0x3E47C5C2#32
  | 80 => 0xBF800000#32
  | 81 => 0x3E47C5C2#32
  | 82 => 0x3F6C835E#32
  | 83 => 0xBF0E39DA#32
  | 84 => 0xBF3504F3#32
  | 85 => 0x3F54DB31#32
  | 86 => 0x3EC3EF15#32
  | 87 => 0xBF7B14BE#32
  | 88 => 0xA553C9CA#32
  | 89 => 0x3F7B14BE#32
  | 90 => 0xBEC3EF15#32
  | 91 => 0xBF54DB31#32
  | 92 => 0x3F3504F3#32
  | 93 => 0x3F0E39DA#32
  | 94 => 0xBF6C835E#32
  | 95 => 0xBE47C5C2#32
  | 96 => 0x3F800000#32
  | 97 => 0xBE47C5C2#32
  | 98 => 0xBF6C835E#32
  | 99 => 0x3F0E39DA#32
  | 100 => 0x3F3504F3#32
  | 101 => 0xBF54DB31#32
  | 102 => 0xBEC3EF15#32
  | 103 => 0x3F7B14BE#32
  | 104 => 0x248D3132#32
  | 105 => 0xBF7B14BE#32
  | 106 => 0x3EC3EF15#32
  | 107 => 0x3F54DB31#32
  | 108 => 0xBF3504F3#32
  | 109 => 0xBF0E39DA#32
  | 110 => 0x3F6C835E#32
  | 111 => 0x3E47C5C2#32
  | 112 => 0xBF800000#32
  | 113 => 0x3E47C5C2#32
  | 114 => 0x3F6C835E#32
  | 115 => 0xBF0E39DA#32
  | 116 => 0xBF3504F3#32
  | 117 => 0x3F54DB31#32
  | 118 => 0x3EC3EF15#32
  | 119 => 0xBF7B14BE#32
  | 120 => 0xA553C9CA#32
  | 121 => 0x3F7B14BE#32
  | 122 => 0xBEC3EF15#32
  | 123 => 0xBF54DB31#32
  | 124 => 0x3F3504F3#32
  | 125 => 0x3F0E39DA#32
  | 126 => 0xBF6C835E#32
  | 127 => 0xBE47C5C2#32
  | _ => 0#32

noncomputable abbrev lit0t0_184 (i : Nat) : BitVec 32 := match i % 128 with
  | 0 => 0x3F800000#32
  | 1 => 0xBE47C5C2#32
  | 2 => 0xBF6C835E#32
  | 3 => 0x3F0E39DA#32
  | 4 => 0x3F3504F3#32
  | 5 => 0xBF54DB31#32
  | 6 => 0xBEC3EF15#32
  | 7 => 0x3F7B14BE#32
  | 8 => 0x248D3132#32
  | 9 => 0xBF7B14BE#32
  | 10 => 0x3EC3EF15#32
  | 11 => 0x3F54DB31#32
  | 12 => 0xBF3504F3#32
  | 13 => 0xBF0E39DA#32
  | 14 => 0x3F6C835E#32
  | 15 => 0x3E47C5C2#32
  | 16 => 0xBF800000#32
  | 17 => 0x3E47C5C2#32
  | 18 => 0x3F6C835E#32
  | 19 => 0xBF0E39DA#32
  | 20 => 0xBF3504F3#32
  | 21 => 0x3F54DB31#32
  | 22 => 0x3EC3EF15#32
  | 23 => 0xBF7B14BE#32
  | 24 => 0xA553C9CA#32
  | 25 => 0x3F7B14BE#32
  | 26 => 0xBEC3EF15#32
  | 27 => 0xBF54DB31#32
  | 28 => 0x3F3504F3#32
  | 29 => 0x3F0E39DA#32
  | 30 => 0xBF6C835E#32
  | 31 => 0xBE47C5C2#32
  | 32 => 0x3F800000#32
  | 33 => 0xBE47C5C2#32
  | 34 => 0xBF6C835E#32
  | 35 => 0x3F0E39DA#32
  | 36 => 0x3F3504F3#32
  | 37 => 0xBF54DB31#32
  | 38 => 0xBEC3EF15#32
  | 39 => 0x3F7B14BE#32
  | 40 => 0x248D3132#32
  | 41 => 0xBF7B14BE#32
  | 42 => 0x3EC3EF15#32
  | 43 => 0x3F54DB31#32
  | 44 => 0xBF3504F3#32
  | 45 => 0xBF0E39DA#32
  | 46 => 0x3F6C835E#32
  | 47 => 0x3E47C5C2#32
  | 48 => 0xBF800000#32
  | 49 => 0x3E47C5C2#32
  | 50 => 0x3F6C835E#32
  | 51 => 0xBF0E39DA#32
  | 52 => 0xBF3504F3#32
  | 53 => 0x3F54DB31#32
  | 54 => 0x3EC3EF15#32
  | 55 => 0xBF7B14BE#32
  | 56 => 0xA553C9CA#32
  | 57 => 0x3F7B14BE#32
  | 58 => 0xBEC3EF15#32
  | 59 => 0xBF54DB31#32
  | 60 => 0x3F3504F3#32
  | 61 => 0x3F0E39DA#32
  | 62 => 0xBF6C835E#32
  | 63 => 0xBE47C5C2#32
  | 64 => 0x3F800000#32
  | 65 => 0xBE5DA259#32
  | 66 => 0xBF6803CA#32
  | 67 => 0x3F1BD7CA#32
  | 68 => 0x3F248DBB#32
  | 69 => 0xBF631324#32
  | 70 => 0xBE8483EE#32
  | 71 => 0x3F7FC1A0#32
  | 72 => 0xBE31D0D4#32
  | 73 => 0xBF6C835E#32
  | 74 => 0x3F12D5E8#32
  | 75 => 0x3F2CF37B#32
  | 76 => 0xBF5DB3D7#32
  | 77 => 0xBE99F61C#32
  | 78 => 0x3F7F069E#32
  | 79 => 0xBE05A8A8#32
  | 80 => 0xBF708FB2#32
  | 81 => 0x3F098C78#32
  | 82 => 0x3F3504F3#32
  | 83 => 0xBF57E880#32
  | 84 => 0xBEAF1D44#32
  | 85 => 0x3F7DCF55#32
  | 86 => 0xBDB27EB6#32
  | 87 => 0xBF7426CB#32
  | 88 => 0x3F000000#32
  | 89 => 0x3F3CBE35#32
  | 90 => 0xBF51B3F3#32
  | 91 => 0xBEC3EF15#32
  | 92 => 0x3F7C1C5C#32
  | 93 => 0xBD32AA3E#32
  | 94 => 0xBF7746EA#32
  | 95 => 0x3EEC6A50#32
  | 96 => 0x3F441B7D#32
  | 97 => 0xBF4B1934#32
  | 98 => 0xBED8616C#32
  | 99 => 0x3F79EE89#32
  | 100 => 0x248D3132#32
  | 101 => 0xBF79EE89#32
  | 102 => 0x3ED8616C#32
  | 103 => 0x3F4B1934#32
  | 104 => 0xBF441B7D#32
  | 105 => 0xBEEC6A50#32
  | 106 => 0x3F7746EA#32
  | 107 => 0x3D32AA3E#32
  | 108 => 0xBF7C1C5C#32
  | 109 => 0x3EC3EF15#32
  | 110 => 0x3F51B3F3#32
  | 111 => 0xBF3CBE35#32
  | 112 => 0xBF000000#32
  | 113 => 0x3F7426CB#32
  | 114 => 0x3DB27EB6#32
  | 115 => 0xBF7DCF55#32
  | 116 => 0x3EAF1D44#32
  | 117 => 0x3F57E880#32
  | 118 => 0xBF3504F3#32
  | 119 => 0xBF098C78#32
  | 120 => 0x3F708FB2#32
  | 121 => 0x3E05A8A8#32
  | 122 => 0xBF7F069E#32
  | 123 => 0x3E99F61C#32
  | 124 => 0x3F5DB3D7#32
  | 125 => 0xBF2CF37B#32
  | 126 => 0xBF12D5E8#32
  | 127 => 0x3F6C835E#32
  | _ => 0#32

noncomputable abbrev lit0t0_185 (i : Nat) : BitVec 32 := match i % 128 with
  | 0 => 0x3E31D0D4#32
  | 1 => 0xBF7FC1A0#32
  | 2 => 0x3E8483EE#32
  | 3 => 0x3F631324#32
  | 4 => 0xBF248DBB#32
  | 5 => 0xBF1BD7CA#32
  | 6 => 0x3F6803CA#32
  | 7 => 0x3E5DA259#32
  | 8 => 0xBF800000#32
  | 9 => 0x3E5DA259#32
  | 10 => 0x3F6803CA#32
  | 11 => 0xBF1BD7CA#32
  | 12 => 0xBF248DBB#32
  | 13 => 0x3F631324#32
  | 14 => 0x3E8483EE#32
  | 15 => 0xBF7FC1A0#32
  | 16 => 0x3E31D0D4#32
  | 17 => 0x3F6C835E#32
  | 18 => 0xBF12D5E8#32
  | 19 => 0xBF2CF37B#32
  | 20 => 0x3F5DB3D7#32
  | 21 => 0x3E99F61C#32
  | 22 => 0xBF7F069E#32
  | 23 => 0x3E05A8A8#32
  | 24 => 0x3F708FB2#32
  | 25 => 0xBF098C78#32
  | 26 => 0xBF3504F3#32
  | 27 => 0x3F57E880#32
  | 28 => 0x3EAF1D44#32
  | 29 => 0xBF7DCF55#32
  | 30 => 0x3DB27EB6#32
  | 31 => 0x3F7426CB#32
  | 32 => 0xBF000000#32
  | 33 => 0xBF3CBE35#32
  | 34 => 0x3F51B3F3#32
  | 35 => 0x3EC3EF15#32
  | 36 => 0xBF7C1C5C#32
  | 37 => 0x3D32AA3E#32
  | 38 => 0x3F7746EA#32
  | 39 => 0xBEEC6A50#32
  | 40 => 0xBF441B7D#32
  | 41 => 0x3F4B1934#32
  | 42 => 0x3ED8616C#32
  | 43 => 0xBF79EE89#32
  | 44 => 0xA553C9CA#32
  | 45 => 0x3F79EE89#32
  | 46 => 0xBED8616C#32
  | 47 => 0xBF4B1934#32
  | 48 => 0x3F441B7D#32
  | 49 => 0x3EEC6A50#32
  | 50 => 0xBF7746EA#32
  | 51 => 0xBD32AA3E#32
  | 52 => 0x3F7C1C5C#32
  | 53 => 0xBEC3EF15#32
  | 54 => 0xBF51B3F3#32
  | 55 => 0x3F3CBE35#32
  | 56 => 0x3F000000#32
  | 57 => 0xBF7426CB#32
  | 58 => 0xBDB27EB6#32
  | 59 => 0x3F7DCF55#32
  | 60 => 0xBEAF1D44#32
  | 61 => 0xBF57E880#32
  | 62 => 0x3F3504F3#32
  | 63 => 0x3F098C78#32
  | 64 => 0xBF708FB2#32
  | 65 => 0xBE05A8A8#32
  | 66 => 0x3F7F069E#32
  | 67 => 0xBE99F61C#32
  | 68 => 0xBF5DB3D7#32
  | 69 => 0x3F2CF37B#32
  | 70 => 0x3F12D5E8#32
  | 71 => 0xBF6C835E#32
  | 72 => 0xBE31D0D4#32
  | 73 => 0x3F7FC1A0#32
  | 74 => 0xBE8483EE#32
  | 75 => 0xBF631324#32
  | 76 => 0x3F248DBB#32
  | 77 => 0x3F1BD7CA#32
  | 78 => 0xBF6803CA#32
  | 79 => 0xBE5DA259#32
  | 80 => 0x3F800000#32
  | 81 => 0xBE5DA259#32
  | 82 => 0xBF6803CA#32
  | 83 => 0x3F1BD7CA#32
  | 84 => 0x3F248DBB#32
  | 85 => 0xBF631324#32
  | 86 => 0xBE8483EE#32
  | 87 => 0x3F7FC1A0#32
  | 88 => 0xBE31D0D4#32
  | 89 => 0xBF6C835E#32
  | 90 => 0x3F12D5E8#32
  | 91 => 0x3F2CF37B#32
  | 92 => 0xBF5DB3D7#32
  | 93 => 0xBE99F61C#32
  | 94 => 0x3F7F069E#32
  | 95 => 0xBE05A8A8#32
  | 96 => 0xBF708FB2#32
  | 97 => 0x3F098C78#32
  | 98 => 0x3F3504F3#32
  | 99 => 0xBF57E880#32
  | 100 => 0xBEAF1D44#32
  | 101 => 0x3F7DCF55#32
  | 102 => 0xBDB27EB6#32
  | 103 => 0xBF7426CB#32
  | 104 => 0x3F000000#32
  | 105 => 0x3F3CBE35#32
  | 106 => 0xBF51B3F3#32
  | 107 => 0xBEC3EF15#32
  | 108 => 0x3F7C1C5C#32
  | 109 => 0xBD32AA3E#32
  | 110 => 0xBF7746EA#32
  | 111 => 0x3EEC6A50#32
  | 112 => 0x3F441B7D#32
  | 113 => 0xBF4B1934#32
  | 114 => 0xBED8616C#32
  | 115 => 0x3F79EE89#32
  | 116 => 0x248D3132#32
  | 117 => 0xBF79EE89#32
  | 118 => 0x3ED8616C#32
  | 119 => 0x3F4B1934#32
  | 120 => 0xBF441B7D#32
  | 121 => 0xBEEC6A50#32
  | 122 => 0x3F7746EA#32
  | 123 => 0x3D32AA3E#32
  | 124 => 0xBF7C1C5C#32
  | 125 => 0x3EC3EF15#32
  | 126 => 0x3F51B3F3#32
  | 127 => 0xBF3CBE35#32
  | _ => 0#32

noncomputable abbrev lit0t0_186 (i : Nat) : BitVec 32 := match i % 128 with
  | 0 => 0xBF000000#32
  | 1 => 0x3F7426CB#32
  | 2 => 0x3DB27EB6#32
  | 3 => 0xBF7DCF55#32
  | 4 => 0x3EAF1D44#32
  | 5 => 0x3F57E880#32
  | 6 => 0xBF3504F3#32
  | 7 => 0xBF098C78#32
  | 8 => 0x3F708FB2#32
  | 9 => 0x3E05A8A8#32
  | 10 => 0xBF7F069E#32
  | 11 => 0x3E99F61C#32
  | 12 => 0x3F5DB3D7#32
  | 13 => 0xBF2CF37B#32
  | 14 => 0xBF12D5E8#32
  | 15 => 0x3F6C835E#32
  | 16 => 0x3E31D0D4#32
  | 17 => 0xBF7FC1A0#32
  | 18 => 0x3E8483EE#32
  | 19 => 0x3F631324#32
  | 20 => 0xBF248DBB#32
  | 21 => 0xBF1BD7CA#32
  | 22 => 0x3F6803CA#32
  | 23 => 0x3E5DA259#32
  | 24 => 0xBF800000#32
  | 25 => 0x3E5DA259#32
  | 26 => 0x3F6803CA#32
  | 27 => 0xBF1BD7CA#32
  | 28 => 0xBF248DBB#32
  | 29 => 0x3F631324#32
  | 30 => 0x3E8483EE#32
  | 31 => 0xBF7FC1A0#32
  | 32 => 0x3E31D0D4#32
  | 33 => 0x3F6C835E#32
  | 34 => 0xBF12D5E8#32
  | 35 => 0xBF2CF37B#32
  | 36 => 0x3F5DB3D7#32
  | 37 => 0x3E99F61C#32
  | 38 => 0xBF7F069E#32
  | 39 => 0x3E05A8A8#32
  | 40 => 0x3F708FB2#32
  | 41 => 0xBF098C78#32
  | 42 => 0xBF3504F3#32
  | 43 => 0x3F57E880#32
  | 44 => 0x3EAF1D44#32
  | 45 => 0xBF7DCF55#32
  | 46 => 0x3DB27EB6#32
  | 47 => 0x3F7426CB#32
  | 48 => 0xBF000000#32
  | 49 => 0xBF3CBE35#32
  | 50 => 0x3F51B3F3#32
  | 51 => 0x3EC3EF15#32
  | 52 => 0xBF7C1C5C#32
  | 53 => 0x3D32AA3E#32
  | 54 => 0x3F7746EA#32
  | 55 => 0xBEEC6A50#32
  | 56 => 0xBF441B7D#32
  | 57 => 0x3F4B1934#32
  | 58 => 0x3ED8616C#32
  | 59 => 0xBF79EE89#32
  | 60 => 0xA553C9CA#32
  | 61 => 0x3F79EE89#32
  | 62 => 0xBED8616C#32
  | 63 => 0xBF4B1934#32
  | 64 => 0x3F441B7D#32
  | 65 => 0x3EEC6A50#32
  | 66 => 0xBF7746EA#32
  | 67 => 0xBD32AA3E#32
  | 68 => 0x3F7C1C5C#32
  | 69 => 0xBEC3EF15#32
  | 70 => 0xBF51B3F3#32
  | 71 => 0x3F3CBE35#32
  | 72 => 0x3F000000#32
  | 73 => 0xBF7426CB#32
  | 74 => 0xBDB27EB6#32
  | 75 => 0x3F7DCF55#32
  | 76 => 0xBEAF1D44#32
  | 77 => 0xBF57E880#32
  | 78 => 0x3F3504F3#32
  | 79 => 0x3F098C78#32
  | 80 => 0xBF708FB2#32
  | 81 => 0xBE05A8A8#32
  | 82 => 0x3F7F069E#32
  | 83 => 0xBE99F61C#32
  | 84 => 0xBF5DB3D7#32
  | 85 => 0x3F2CF37B#32
  | 86 => 0x3F12D5E8#32
  | 87 => 0xBF6C835E#32
  | 88 => 0xBE31D0D4#32
  | 89 => 0x3F7FC1A0#32
  | 90 => 0xBE8483EE#32
  | 91 => 0xBF631324#32
  | 92 => 0x3F248DBB#32
  | 93 => 0x3F1BD7CA#32
  | 94 => 0xBF6803CA#32
  | 95 => 0xBE5DA259#32
  | 96 => 0x3F800000#32
  | 97 => 0xBE7363EE#32
  | 98 => 0xBF631324#32
  | 99 => 0x3F28CAE3#32
  | 100 => 0x3F12D5E8#32
  | 101 => 0xBF6E9811#32
  | 102 => 0xBE05A8A8#32
  | 103 => 0x3F7E7A7A#32
  | 104 => 0xBEAF1D44#32
  | 105 => 0xBF54DB31#32
  | 106 => 0x3F3CBE35#32
  | 107 => 0x3EF64429#32
  | 108 => 0xBF7746EA#32
  | 109 => 0xBCB2B521#32
  | 110 => 0x3F79EE89#32
  | 111 => 0xBEE273AA#32
  | 112 => 0xBF441B7D#32
  | 113 => 0x3F4E7327#32
  | 114 => 0x3EC3EF15#32
  | 115 => 0xBF7D0543#32
  | 116 => 0x3DB27EB6#32
  | 117 => 0x3F726A03#32
  | 118 => 0xBF098C78#32
  | 119 => 0xBF310700#32
  | 120 => 0x3F5DB3D7#32
  | 121 => 0x3E8F45C0#32
  | 122 => 0xBF7FC1A0#32
  | 123 => 0x3E47C5C2#32
  | 124 => 0x3F6803CA#32
  | 125 => 0xBF203C85#32
  | 126 => 0xBF1BD7CA#32
  | 127 => 0x3F6A51DA#32
  | _ => 0#32

noncomputable abbrev lit0t0_187 (i : Nat) : BitVec 32 := match i % 128 with
  | 0 => 0x3E31D0D4#32
  | 1 => 0xBF7F73AF#32
  | 2 => 0x3E99F61C#32
  | 3 => 0x3F5ADB81#32
  | 4 => 0xBF3504F3#32
  | 5 => 0xBF04CE53#32
  | 6 => 0x3F7426CB#32
  | 7 => 0x3D85F213#32
  | 8 => 0xBF7C1C5C#32
  | 9 => 0x3ECE34D0#32
  | 10 => 0x3F4B1934#32
  | 11 => 0xBF47A682#32
  | 12 => 0xBED8616C#32
  | 13 => 0x3F7B14BE#32
  | 14 => 0xBD32AA3E#32
  | 15 => 0xBF75C5D4#32
  | 16 => 0x3F000000#32
  | 17 => 0x3F38ECD8#32
  | 18 => 0xBF57E880#32
  | 19 => 0xBEA493B7#32
  | 20 => 0x3F7F069E#32
  | 21 => 0xBE1BC63C#32
  | 22 => 0xBF6C835E#32
  | 23 => 0x3F176012#32
  | 24 => 0x3F248DBB#32
  | 25 => 0xBF659974#32
  | 26 => 0xBE5DA259#32
  | 27 => 0x3F7FF067#32
  | 28 => 0xBE8483EE#32
  | 29 => 0xBF60712A#32
  | 30 => 0x3F2CF37B#32
  | 31 => 0x3F0E39DA#32
  | 32 => 0xBF708FB2#32
  | 33 => 0xBDDEF599#32
  | 34 => 0x3F7DCF55#32
  | 35 => 0xBEB9917B#32
  | 36 => 0xBF51B3F3#32
  | 37 => 0x3F407893#32
  | 38 => 0x3EEC6A50#32
  | 39 => 0xBF78A9E0#32
  | 40 => 0xA553C9CA#32
  | 41 => 0x3F78A9E0#32
  | 42 => 0xBEEC6A50#32
  | 43 => 0xBF407893#32
  | 44 => 0x3F51B3F3#32
  | 45 => 0x3EB9917B#32
  | 46 => 0xBF7DCF55#32
  | 47 => 0x3DDEF599#32
  | 48 => 0x3F708FB2#32
  | 49 => 0xBF0E39DA#32
  | 50 => 0xBF2CF37B#32
  | 51 => 0x3F60712A#32
  | 52 => 0x3E8483EE#32
  | 53 => 0xBF7FF067#32
  | 54 => 0x3E5DA259#32
  | 55 => 0x3F659974#32
  | 56 => 0xBF248DBB#32
  | 57 => 0xBF176012#32
  | 58 => 0x3F6C835E#32
  | 59 => 0x3E1BC63C#32
  | 60 => 0xBF7F069E#32
  | 61 => 0x3EA493B7#32
  | 62 => 0x3F57E880#32
  | 63 => 0xBF38ECD8#32
  | 64 => 0xBF000000#32
  | 65 => 0x3F75C5D4#32
  | 66 => 0x3D32AA3E#32
  | 67 => 0xBF7B14BE#32
  | 68 => 0x3ED8616C#32
  | 69 => 0x3F47A682#32
  | 70 => 0xBF4B1934#32
  | 71 => 0xBECE34D0#32
  | 72 => 0x3F7C1C5C#32
  | 73 => 0xBD85F213#32
  | 74 => 0xBF7426CB#32
  | 75 => 0x3F04CE53#32
  | 76 => 0x3F3504F3#32
  | 77 => 0xBF5ADB81#32
  | 78 => 0xBE99F61C#32
  | 79 => 0x3F7F73AF#32
  | 80 => 0xBE31D0D4#32
  | 81 => 0xBF6A51DA#32
  | 82 => 0x3F1BD7CA#32
  | 83 => 0x3F203C85#32
  | 84 => 0xBF6803CA#32
  | 85 => 0xBE47C5C2#32
  | 86 => 0x3F7FC1A0#32
  | 87 => 0xBE8F45C0#32
  | 88 => 0xBF5DB3D7#32
  | 89 => 0x3F310700#32
  | 90 => 0x3F098C78#32
  | 91 => 0xBF726A03#32
  | 92 => 0xBDB27EB6#32
  | 93 => 0x3F7D0543#32
  | 94 => 0xBEC3EF15#32
  | 95 => 0xBF4E7327#32
  | 96 => 0x3F441B7D#32
  | 97 => 0x3EE273AA#32
  | 98 => 0xBF79EE89#32
  | 99 => 0x3CB2B521#32
  | 100 => 0x3F7746EA#32
  | 101 => 0xBEF64429#32
  | 102 => 0xBF3CBE35#32
  | 103 => 0x3F54DB31#32
  | 104 => 0x3EAF1D44#32
  | 105 => 0xBF7E7A7A#32
  | 106 => 0x3E05A8A8#32
  | 107 => 0x3F6E9811#32
  | 108 => 0xBF12D5E8#32
  | 109 => 0xBF28CAE3#32
  | 110 => 0x3F631324#32
  | 111 => 0x3E7363EE#32
  | 112 => 0xBF800000#32
  | 113 => 0x3E7363EE#32
  | 114 => 0x3F631324#32
  | 115 => 0xBF28CAE3#32
  | 116 => 0xBF12D5E8#32
  | 117 => 0x3F6E9811#32
  | 118 => 0x3E05A8A8#32
  | 119 => 0xBF7E7A7A#32
  | 120 => 0x3EAF1D44#32
  | 121 => 0x3F54DB31#32
  | 122 => 0xBF3CBE35#32
  | 123 => 0xBEF64429#32
  | 124 => 0x3F7746EA#32
  | 125 => 0x3CB2B521#32
  | 126 => 0xBF79EE89#32
  | 127 => 0x3EE273AA#32
  | _ => 0#32

noncomputable abbrev lit0t0_188 (i : Nat) : BitVec 32 := match i % 128 with
  | 0 => 0x3F441B7D#32
  | 1 => 0xBF4E7327#32
  | 2 => 0xBEC3EF15#32
  | 3 => 0x3F7D0543#32
  | 4 => 0xBDB27EB6#32
  | 5 => 0xBF726A03#32
  | 6 => 0x3F098C78#32
  | 7 => 0x3F310700#32
  | 8 => 0xBF5DB3D7#32
  | 9 => 0xBE8F45C0#32
  | 10 => 0x3F7FC1A0#32
  | 11 => 0xBE47C5C2#32
  | 12 => 0xBF6803CA#32
  | 13 => 0x3F203C85#32
  | 14 => 0x3F1BD7CA#32
  | 15 => 0xBF6A51DA#32
  | 16 => 0xBE31D0D4#32
  | 17 => 0x3F7F73AF#32
  | 18 => 0xBE99F61C#32
  | 19 => 0xBF5ADB81#32
  | 20 => 0x3F3504F3#32
  | 21 => 0x3F04CE53#32
  | 22 => 0xBF7426CB#32
  | 23 => 0xBD85F213#32
  | 24 => 0x3F7C1C5C#32
  | 25 => 0xBECE34D0#32
  | 26 => 0xBF4B1934#32
  | 27 => 0x3F47A682#32
  | 28 => 0x3ED8616C#32
  | 29 => 0xBF7B14BE#32
  | 30 => 0x3D32AA3E#32
  | 31 => 0x3F75C5D4#32
  | 32 => 0xBF000000#32
  | 33 => 0xBF38ECD8#32
  | 34 => 0x3F57E880#32
  | 35 => 0x3EA493B7#32
  | 36 => 0xBF7F069E#32
  | 37 => 0x3E1BC63C#32
  | 38 => 0x3F6C835E#32
  | 39 => 0xBF176012#32
  | 40 => 0xBF248DBB#32
  | 41 => 0x3F659974#32
  | 42 => 0x3E5DA259#32
  | 43 => 0xBF7FF067#32
  | 44 => 0x3E8483EE#32
  | 45 => 0x3F60712A#32
  | 46 => 0xBF2CF37B#32
  | 47 => 0xBF0E39DA#32
  | 48 => 0x3F708FB2#32
  | 49 => 0x3DDEF599#32
  | 50 => 0xBF7DCF55#32
  | 51 => 0x3EB9917B#32
  | 52 => 0x3F51B3F3#32
  | 53 => 0xBF407893#32
  | 54 => 0xBEEC6A50#32
  | 55 => 0x3F78A9E0#32
  | 56 => 0x248D3132#32
  | 57 => 0xBF78A9E0#32
  | 58 => 0x3EEC6A50#32
  | 59 => 0x3F407893#32
  | 60 => 0xBF51B3F3#32
  | 61 => 0xBEB9917B#32
  | 62 => 0x3F7DCF55#32
  | 63 => 0xBDDEF599#32
  | 64 => 0xBF708FB2#32
  | 65 => 0x3F0E39DA#32
  | 66 => 0x3F2CF37B#32
  | 67 => 0xBF60712A#32
  | 68 => 0xBE8483EE#32
  | 69 => 0x3F7FF067#32
  | 70 => 0xBE5DA259#32
  | 71 => 0xBF659974#32
  | 72 => 0x3F248DBB#32
  | 73 => 0x3F176012#32
  | 74 => 0xBF6C835E#32
  | 75 => 0xBE1BC63C#32
  | 76 => 0x3F7F069E#32
  | 77 => 0xBEA493B7#32
  | 78 => 0xBF57E880#32
  | 79 => 0x3F38ECD8#32
  | 80 => 0x3F000000#32
  | 81 => 0xBF75C5D4#32
  | 82 => 0xBD32AA3E#32
  | 83 => 0x3F7B14BE#32
  | 84 => 0xBED8616C#32
  | 85 => 0xBF47A682#32
  | 86 => 0x3F4B1934#32
  | 87 => 0x3ECE34D0#32
  | 88 => 0xBF7C1C5C#32
  | 89 => 0x3D85F213#32
  | 90 => 0x3F7426CB#32
  | 91 => 0xBF04CE53#32
  | 92 => 0xBF3504F3#32
  | 93 => 0x3F5ADB81#32
  | 94 => 0x3E99F61C#32
  | 95 => 0xBF7F73AF#32
  | 96 => 0x3E31D0D4#32
  | 97 => 0x3F6A51DA#32
  | 98 => 0xBF1BD7CA#32
  | 99 => 0xBF203C85#32
  | 100 => 0x3F6803CA#32
  | 101 => 0x3E47C5C2#32
  | 102 => 0xBF7FC1A0#32
  | 103 => 0x3E8F45C0#32
  | 104 => 0x3F5DB3D7#32
  | 105 => 0xBF310700#32
  | 106 => 0xBF098C78#32
  | 107 => 0x3F726A03#32
  | 108 => 0x3DB27EB6#32
  | 109 => 0xBF7D0543#32
  | 110 => 0x3EC3EF15#32
  | 111 => 0x3F4E7327#32
  | 112 => 0xBF441B7D#32
  | 113 => 0xBEE273AA#32
  | 114 => 0x3F79EE89#32
  | 115 => 0xBCB2B521#32
  | 116 => 0xBF7746EA#32
  | 117 => 0x3EF64429#32
  | 118 => 0x3F3CBE35#32
  | 119 => 0xBF54DB31#32
  | 120 => 0xBEAF1D44#32
  | 121 => 0x3F7E7A7A#32
  | 122 => 0xBE05A8A8#32
  | 123 => 0xBF6E9811#32
  | 124 => 0x3F12D5E8#32
  | 125 => 0x3F28CAE3#32
  | 126 => 0xBF631324#32
  | 127 => 0xBE7363EE#32
  | _ => 0#32

noncomputable abbrev lit0t0_189 (i : Nat) : BitVec 32 := match i % 128 with
  | 0 => 0x3F800000#32
  | 1 => 0xBE8483EE#32
  | 2 => 0xBF5DB3D7#32
  | 3 => 0x3F3504F3#32
  | 4 => 0x3F000000#32
  | 5 => 0xBF7746EA#32
  | 6 => 0xA553C9CA#32
  | 7 => 0x3F7746EA#32
  | 8 => 0xBF000000#32
  | 9 => 0xBF3504F3#32
  | 10 => 0x3F5DB3D7#32
  | 11 => 0x3E8483EE#32
  | 12 => 0xBF800000#32
  | 13 => 0x3E8483EE#32
  | 14 => 0x3F5DB3D7#32
  | 15 => 0xBF3504F3#32
  | 16 => 0xBF000000#32
  | 17 => 0x3F7746EA#32
  | 18 => 0x248D3132#32
  | 19 => 0xBF7746EA#32
  | 20 => 0x3F000000#32
  | 21 => 0x3F3504F3#32
  | 22 => 0xBF5DB3D7#32
  | 23 => 0xBE8483EE#32
  | 24 => 0x3F800000#32
  | 25 => 0xBE8483EE#32
  | 26 => 0xBF5DB3D7#32
  | 27 => 0x3F3504F3#32
  | 28 => 0x3F000000#32
  | 29 => 0xBF7746EA#32
  | 30 => 0xA553C9CA#32
  | 31 => 0x3F7746EA#32
  | 32 => 0xBF000000#32
  | 33 => 0xBF3504F3#32
  | 34 => 0x3F5DB3D7#32
  | 35 => 0x3E8483EE#32
  | 36 => 0xBF800000#32
  | 37 => 0x3E8483EE#32
  | 38 => 0x3F5DB3D7#32
  | 39 => 0xBF3504F3#32
  | 40 => 0xBF000000#32
  | 41 => 0x3F7746EA#32
  | 42 => 0x248D3132#32
  | 43 => 0xBF7746EA#32
  | 44 => 0x3F000000#32
  | 45 => 0x3F3504F3#32
  | 46 => 0xBF5DB3D7#32
  | 47 => 0xBE8483EE#32
  | 48 => 0x3F800000#32
  | 49 => 0xBE8483EE#32
  | 50 => 0xBF5DB3D7#32
  | 51 => 0x3F3504F3#32
  | 52 => 0x3F000000#32
  | 53 => 0xBF7746EA#32
  | 54 => 0xA553C9CA#32
  | 55 => 0x3F7746EA#32
  | 56 => 0xBF000000#32
  | 57 => 0xBF3504F3#32
  | 58 => 0x3F5DB3D7#32
  | 59 => 0x3E8483EE#32
  | 60 => 0xBF800000#32
  | 61 => 0x3E8483EE#32
  | 62 => 0x3F5DB3D7#32
  | 63 => 0xBF3504F3#32
  | 64 => 0xBF000000#32
  | 65 => 0x3F7746EA#32
  | 66 => 0x248D3132#32
  | 67 => 0xBF7746EA#32
  | 68 => 0x3F000000#32
  | 69 => 0x3F3504F3#32
  | 70 => 0xBF5DB3D7#32
  | 71 => 0xBE8483EE#32
  | 72 => 0x3F800000#32
  | 73 => 0xBE8483EE#32
  | 74 => 0xBF5DB3D7#32
  | 75 => 0x3F3504F3#32
  | 76 => 0x3F000000#32
  | 77 => 0xBF7746EA#32
  | 78 => 0xA553C9CA#32
  | 79 => 0x3F7746EA#32
  | 80 => 0xBF000000#32
  | 81 => 0xBF3504F3#32
  | 82 => 0x3F5DB3D7#32
  | 83 => 0x3E8483EE#32
  | 84 => 0xBF800000#32
  | 85 => 0x3E8483EE#32
  | 86 => 0x3F5DB3D7#32
  | 87 => 0xBF3504F3#32
  | 88 => 0xBF000000#32
  | 89 => 0x3F7746EA#32
  | 90 => 0x248D3132#32
  | 91 => 0xBF7746EA#32
  | 92 => 0x3F000000#32
  | 93 => 0x3F3504F3#32
  | 94 => 0xBF5DB3D7#32
  | 95 => 0xBE8483EE#32
  | 96 => 0x3F800000#32
  | 97 => 0xBE8483EE#32
  | 98 => 0xBF5DB3D7#32
  | 99 => 0x3F3504F3#32
  | 100 => 0x3F000000#32
  | 101 => 0xBF7746EA#32
  | 102 => 0xA553C9CA#32
  | 103 => 0x3F7746EA#32
  | 104 => 0xBF000000#32
  | 105 => 0xBF3504F3#32
  | 106 => 0x3F5DB3D7#32
  | 107 => 0x3E8483EE#32
  | 108 => 0xBF800000#32
  | 109 => 0x3E8483EE#32
  | 110 => 0x3F5DB3D7#32
  | 111 => 0xBF3504F3#32
  | 112 => 0xBF000000#32
  | 113 => 0x3F7746EA#32
  | 114 => 0x248D3132#32
  | 115 => 0xBF7746EA#32
  | 116 => 0x3F000000#32
  | 117 => 0x3F3504F3#32
  | 118 => 0xBF5DB3D7#32
  | 119 => 0xBE8483EE#32
  | 120 => 0x3F800000#32
  | 121 => 0xBE8483EE#32
  | 122 => 0xBF5DB3D7#32
  | 123 => 0x3F3504F3#32
  | 124 => 0x3F000000#32
  | 125 => 0xBF7746EA#32
  | 126 => 0xA553C9CA#32
  | 127 => 0x3F7746EA#32
  | _ => 0#32

noncomputable abbrev lit0t0_190 (i : Nat) : BitVec 32 := match i % 128 with
  | 0 => 0xBF000000#32
  | 1 => 0xBF3504F3#32
  | 2 => 0x3F5DB3D7#32
  | 3 => 0x3E8483EE#32
  | 4 => 0xBF800000#32
  | 5 => 0x3E8483EE#32
  | 6 => 0x3F5DB3D7#32
  | 7 => 0xBF3504F3#32
  | 8 => 0xBF000000#32
  | 9 => 0x3F7746EA#32
  | 10 => 0x248D3132#32
  | 11 => 0xBF7746EA#32
  | 12 => 0x3F000000#32
  | 13 => 0x3F3504F3#32
  | 14 => 0xBF5DB3D7#32
  | 15 => 0xBE8483EE#32
  | 16 => 0x3F800000#32
  | 17 => 0xBE8483EE#32
  | 18 => 0xBF5DB3D7#32
  | 19 => 0x3F3504F3#32
  | 20 => 0x3F000000#32
  | 21 => 0xBF7746EA#32
  | 22 => 0xA553C9CA#32
  | 23 => 0x3F7746EA#32
  | 24 => 0xBF000000#32
  | 25 => 0xBF3504F3#32
  | 26 => 0x3F5DB3D7#32
  | 27 => 0x3E8483EE#32
  | 28 => 0xBF800000#32
  | 29 => 0x3E8483EE#32
  | 30 => 0x3F5DB3D7#32
  | 31 => 0xBF3504F3#32
  | 32 => 0xBF000000#32
  | 33 => 0x3F7746EA#32
  | 34 => 0x248D3132#32
  | 35 => 0xBF7746EA#32
  | 36 => 0x3F000000#32
  | 37 => 0x3F3504F3#32
  | 38 => 0xBF5DB3D7#32
  | 39 => 0xBE8483EE#32
  | 40 => 0x3F800000#32
  | 41 => 0xBE8483EE#32
  | 42 => 0xBF5DB3D7#32
  | 43 => 0x3F3504F3#32
  | 44 => 0x3F000000#32
  | 45 => 0xBF7746EA#32
  | 46 => 0xA553C9CA#32
  | 47 => 0x3F7746EA#32
  | 48 => 0xBF000000#32
  | 49 => 0xBF3504F3#32
  | 50 => 0x3F5DB3D7#32
  | 51 => 0x3E8483EE#32
  | 52 => 0xBF800000#32
  | 53 => 0x3E8483EE#32
  | 54 => 0x3F5DB3D7#32
  | 55 => 0xBF3504F3#32
  | 56 => 0xBF000000#32
  | 57 => 0x3F7746EA#32
  | 58 => 0x248D3132#32
  | 59 => 0xBF7746EA#32
  | 60 => 0x3F000000#32
  | 61 => 0x3F3504F3#32
  | 62 => 0xBF5DB3D7#32
  | 63 => 0xBE8483EE#32
  | 64 => 0x3F800000#32
  | 65 => 0xBE8483EE#32
  | 66 => 0xBF5DB3D7#32
  | 67 => 0x3F3504F3#32
  | 68 => 0x3F000000#32
  | 69 => 0xBF7746EA#32
  | 70 => 0xA553C9CA#32
  | 71 => 0x3F7746EA#32
  | 72 => 0xBF000000#32
  | 73 => 0xBF3504F3#32
  | 74 => 0x3F5DB3D7#32
  | 75 => 0x3E8483EE#32
  | 76 => 0xBF800000#32
  | 77 => 0x3E8483EE#32
  | 78 => 0x3F5DB3D7#32
  | 79 => 0xBF3504F3#32
  | 80 => 0xBF000000#32
  | 81 => 0x3F7746EA#32
  | 82 => 0x248D3132#32
  | 83 => 0xBF7746EA#32
  | 84 => 0x3F000000#32
  | 85 => 0x3F3504F3#32
  | 86 => 0xBF5DB3D7#32
  | 87 => 0xBE8483EE#32
  | 88 => 0x3F800000#32
  | 89 => 0xBE8483EE#32
  | 90 => 0xBF5DB3D7#32
  | 91 => 0x3F3504F3#32
  | 92 => 0x3F000000#32
  | 93 => 0xBF7746EA#32
  | 94 => 0xA553C9CA#32
  | 95 => 0x3F7746EA#32
  | 96 => 0xBF000000#32
  | 97 => 0xBF3504F3#32
  | 98 => 0x3F5DB3D7#32
  | 99 => 0x3E8483EE#32
  | 100 => 0xBF800000#32
  | 101 => 0x3E8483EE#32
  | 102 => 0x3F5DB3D7#32
  | 103 => 0xBF3504F3#32
  | 104 => 0xBF000000#32
  | 105 => 0x3F7746EA#32
  | 106 => 0x248D3132#32
  | 107 => 0xBF7746EA#32
  | 108 => 0x3F000000#32
  | 109 => 0x3F3504F3#32
  | 110 => 0xBF5DB3D7#32
  | 111 => 0xBE8483EE#32
  | 112 => 0x3F800000#32
  | 113 => 0xBE8483EE#32
  | 114 => 0xBF5DB3D7#32
  | 115 => 0x3F3504F3#32
  | 116 => 0x3F000000#32
  | 117 => 0xBF7746EA#32
  | 118 => 0xA553C9CA#32
  | 119 => 0x3F7746EA#32
  | 120 => 0xBF000000#32
  | 121 => 0xBF3504F3#32
  | 122 => 0x3F5DB3D7#32
  | 123 => 0x3E8483EE#32
  | 124 => 0xBF800000#32
  | 125 => 0x3E8483EE#32
  | 126 => 0x3F5DB3D7#32
  | 127 => 0xBF3504F3#32
  | _ => 0#32

noncomputable abbrev lit0t0_191 (i : Nat) : BitVec 32 := match i % 128 with
  | 0 => 0xBF000000#32
  | 1 => 0x3F7746EA#32
  | 2 => 0x248D3132#32
  | 3 => 0xBF7746EA#32
  | 4 => 0x3F000000#32
  | 5 => 0x3F3504F3#32
  | 6 => 0xBF5DB3D7#32
  | 7 => 0xBE8483EE#32
  | 8 => 0x3F800000#32
  | 9 => 0xBE8483EE#32
  | 10 => 0xBF5DB3D7#32
  | 11 => 0x3F3504F3#32
  | 12 => 0x3F000000#32
  | 13 => 0xBF7746EA#32
  | 14 => 0xA553C9CA#32
  | 15 => 0x3F7746EA#32
  | 16 => 0xBF000000#32
  | 17 => 0xBF3504F3#32
  | 18 => 0x3F5DB3D7#32
  | 19 => 0x3E8483EE#32
  | 20 => 0xBF800000#32
  | 21 => 0x3E8483EE#32
  | 22 => 0x3F5DB3D7#32
  | 23 => 0xBF3504F3#32
  | 24 => 0xBF000000#32
  | 25 => 0x3F7746EA#32
  | 26 => 0x248D3132#32
  | 27 => 0xBF7746EA#32
  | 28 => 0x3F000000#32
  | 29 => 0x3F3504F3#32
  | 30 => 0xBF5DB3D7#32
  | 31 => 0xBE8483EE#32
  | 32 => 0x3F800000#32
  | 33 => 0xBE8F45C0#32
  | 34 => 0xBF57E880#32
  | 35 => 0x3F407893#32
  | 36 => 0x3ED8616C#32
  | 37 => 0xBF7D0543#32
  | 38 => 0x3E05A8A8#32
  | 39 => 0x3F6A51DA#32
  | 40 => 0xBF248DBB#32
  | 41 => 0xBF0E39DA#32
  | 42 => 0x3F7426CB#32
  | 43 => 0x3CB2B521#32
  | 44 => 0xBF7746EA#32
  | 45 => 0x3F04CE53#32
  | 46 => 0x3F2CF37B#32
  | 47 => 0xBF659974#32
  | 48 => 0xBE31D0D4#32
  | 49 => 0x3F7E7A7A#32
  | 50 => 0xBEC3EF15#32
  | 51 => 0xBF47A682#32
  | 52 => 0x3F51B3F3#32
  | 53 => 0x3EA493B7#32
  | 54 => 0xBF7FC1A0#32
  | 55 => 0x3E7363EE#32
  | 56 => 0x3F5DB3D7#32
  | 57 => 0xBF38ECD8#32
  | 58 => 0xBEEC6A50#32
  | 59 => 0x3F7B14BE#32
  | 60 => 0xBDB27EB6#32
  | 61 => 0xBF6E9811#32
  | 62 => 0x3F1BD7CA#32
  | 63 => 0x3F176012#32
  | 64 => 0xBF708FB2#32
  | 65 => 0xBD85F213#32
  | 66 => 0x3F79EE89#32
  | 67 => 0xBEF64429#32
  | 68 => 0xBF3504F3#32
  | 69 => 0x3F60712A#32
  | 70 => 0x3E5DA259#32
  | 71 => 0xBF7F73AF#32
  | 72 => 0x3EAF1D44#32
  | 73 => 0x3F4E7327#32
  | 74 => 0xBF4B1934#32
  | 75 => 0xBEB9917B#32
  | 76 => 0x3F7F069E#32
  | 77 => 0xBE47C5C2#32
  | 78 => 0xBF631324#32
  | 79 => 0x3F310700#32
  | 80 => 0x3F000000#32
  | 81 => 0xBF78A9E0#32
  | 82 => 0x3D32AA3E#32
  | 83 => 0x3F726A03#32
  | 84 => 0xBF12D5E8#32
  | 85 => 0xBF203C85#32
  | 86 => 0x3F6C835E#32
  | 87 => 0x3DDEF599#32
  | 88 => 0xBF7C1C5C#32
  | 89 => 0x3EE273AA#32
  | 90 => 0x3F3CBE35#32
  | 91 => 0xBF5ADB81#32
  | 92 => 0xBE8483EE#32
  | 93 => 0x3F7FF067#32
  | 94 => 0xBE99F61C#32
  | 95 => 0xBF54DB31#32
  | 96 => 0x3F441B7D#32
  | 97 => 0x3ECE34D0#32
  | 98 => 0xBF7DCF55#32
  | 99 => 0x3E1BC63C#32
  | 100 => 0x3F6803CA#32
  | 101 => 0xBF28CAE3#32
  | 102 => 0xBF098C78#32
  | 103 => 0x3F75C5D4#32
  | 104 => 0x248D3132#32
  | 105 => 0xBF75C5D4#32
  | 106 => 0x3F098C78#32
  | 107 => 0x3F28CAE3#32
  | 108 => 0xBF6803CA#32
  | 109 => 0xBE1BC63C#32
  | 110 => 0x3F7DCF55#32
  | 111 => 0xBECE34D0#32
  | 112 => 0xBF441B7D#32
  | 113 => 0x3F54DB31#32
  | 114 => 0x3E99F61C#32
  | 115 => 0xBF7FF067#32
  | 116 => 0x3E8483EE#32
  | 117 => 0x3F5ADB81#32
  | 118 => 0xBF3CBE35#32
  | 119 => 0xBEE273AA#32
  | 120 => 0x3F7C1C5C#32
  | 121 => 0xBDDEF599#32
  | 122 => 0xBF6C835E#32
  | 123 => 0x3F203C85#32
  | 124 => 0x3F12D5E8#32
  | 125 => 0xBF726A03#32
  | 126 => 0xBD32AA3E#32
  | 127 => 0x3F78A9E0#32
  | _ => 0#32

noncomputable abbrev lit0t0_192 (i : Nat) : BitVec 32 := match i % 128 with
  | 0 => 0xBF000000#32
  | 1 => 0xBF310700#32
  | 2 => 0x3F631324#32
  | 3 => 0x3E47C5C2#32
  | 4 => 0xBF7F069E#32
  | 5 => 0x3EB9917B#32
  | 6 => 0x3F4B1934#32
  | 7 => 0xBF4E7327#32
  | 8 => 0xBEAF1D44#32
  | 9 => 0x3F7F73AF#32
  | 10 => 0xBE5DA259#32
  | 11 => 0xBF60712A#32
  | 12 => 0x3F3504F3#32
  | 13 => 0x3EF64429#32
  | 14 => 0xBF79EE89#32
  | 15 => 0x3D85F213#32
  | 16 => 0x3F708FB2#32
  | 17 => 0xBF176012#32
  | 18 => 0xBF1BD7CA#32
  | 19 => 0x3F6E9811#32
  | 20 => 0x3DB27EB6#32
  | 21 => 0xBF7B14BE#32
  | 22 => 0x3EEC6A50#32
  | 23 => 0x3F38ECD8#32
  | 24 => 0xBF5DB3D7#32
  | 25 => 0xBE7363EE#32
  | 26 => 0x3F7FC1A0#32
  | 27 => 0xBEA493B7#32
  | 28 => 0xBF51B3F3#32
  | 29 => 0x3F47A682#32
  | 30 => 0x3EC3EF15#32
  | 31 => 0xBF7E7A7A#32
  | 32 => 0x3E31D0D4#32
  | 33 => 0x3F659974#32
  | 34 => 0xBF2CF37B#32
  | 35 => 0xBF04CE53#32
  | 36 => 0x3F7746EA#32
  | 37 => 0xBCB2B521#32
  | 38 => 0xBF7426CB#32
  | 39 => 0x3F0E39DA#32
  | 40 => 0x3F248DBB#32
  | 41 => 0xBF6A51DA#32
  | 42 => 0xBE05A8A8#32
  | 43 => 0x3F7D0543#32
  | 44 => 0xBED8616C#32
  | 45 => 0xBF407893#32
  | 46 => 0x3F57E880#32
  | 47 => 0x3E8F45C0#32
  | 48 => 0xBF800000#32
  | 49 => 0x3E8F45C0#32
  | 50 => 0x3F57E880#32
  | 51 => 0xBF407893#32
  | 52 => 0xBED8616C#32
  | 53 => 0x3F7D0543#32
  | 54 => 0xBE05A8A8#32
  | 55 => 0xBF6A51DA#32
  | 56 => 0x3F248DBB#32
  | 57 => 0x3F0E39DA#32
  | 58 => 0xBF7426CB#32
  | 59 => 0xBCB2B521#32
  | 60 => 0x3F7746EA#32
  | 61 => 0xBF04CE53#32
  | 62 => 0xBF2CF37B#32
  | 63 => 0x3F659974#32
  | 64 => 0x3E31D0D4#32
  | 65 => 0xBF7E7A7A#32
  | 66 => 0x3EC3EF15#32
  | 67 => 0x3F47A682#32
  | 68 => 0xBF51B3F3#32
  | 69 => 0xBEA493B7#32
  | 70 => 0x3F7FC1A0#32
  | 71 => 0xBE7363EE#32
  | 72 => 0xBF5DB3D7#32
  | 73 => 0x3F38ECD8#32
  | 74 => 0x3EEC6A50#32
  | 75 => 0xBF7B14BE#32
  | 76 => 0x3DB27EB6#32
  | 77 => 0x3F6E9811#32
  | 78 => 0xBF1BD7CA#32
  | 79 => 0xBF176012#32
  | 80 => 0x3F708FB2#32
  | 81 => 0x3D85F213#32
  | 82 => 0xBF79EE89#32
  | 83 => 0x3EF64429#32
  | 84 => 0x3F3504F3#32
  | 85 => 0xBF60712A#32
  | 86 => 0xBE5DA259#32
  | 87 => 0x3F7F73AF#32
  | 88 => 0xBEAF1D44#32
  | 89 => 0xBF4E7327#32
  | 90 => 0x3F4B1934#32
  | 91 => 0x3EB9917B#32
  | 92 => 0xBF7F069E#32
  | 93 => 0x3E47C5C2#32
  | 94 => 0x3F631324#32
  | 95 => 0xBF310700#32
  | 96 => 0xBF000000#32
  | 97 => 0x3F78A9E0#32
  | 98 => 0xBD32AA3E#32
  | 99 => 0xBF726A03#32
  | 100 => 0x3F12D5E8#32
  | 101 => 0x3F203C85#32
  | 102 => 0xBF6C835E#32
  | 103 => 0xBDDEF599#32
  | 104 => 0x3F7C1C5C#32
  | 105 => 0xBEE273AA#32
  | 106 => 0xBF3CBE35#32
  | 107 => 0x3F5ADB81#32
  | 108 => 0x3E8483EE#32
  | 109 => 0xBF7FF067#32
  | 110 => 0x3E99F61C#32
  | 111 => 0x3F54DB31#32
  | 112 => 0xBF441B7D#32
  | 113 => 0xBECE34D0#32
  | 114 => 0x3F7DCF55#32
  | 115 => 0xBE1BC63C#32
  | 116 => 0xBF6803CA#32
  | 117 => 0x3F28CAE3#32
  | 118 => 0x3F098C78#32
  | 119 => 0xBF75C5D4#32
  | 120 => 0xA553C9CA#32
  | 121 => 0x3F75C5D4#32
  | 122 => 0xBF098C78#32
  | 123 => 0xBF28CAE3#32
  | 124 => 0x3F6803CA#32
  | 125 => 0x3E1BC63C#32
  | 126 => 0xBF7DCF55#32
  | 127 => 0x3ECE34D0#32
  | _ => 0#32

noncomputable abbrev lit0t0_193 (i : Nat) : BitVec 32 := match i % 128 with
  | 0 => 0x3F441B7D#32
  | 1 => 0xBF54DB31#32
  | 2 => 0xBE99F61C#32
  | 3 => 0x3F7FF067#32
  | 4 => 0xBE8483EE#32
  | 5 => 0xBF5ADB81#32
  | 6 => 0x3F3CBE35#32
  | 7 => 0x3EE273AA#32
  | 8 => 0xBF7C1C5C#32
  | 9 => 0x3DDEF599#32
  | 10 => 0x3F6C835E#32
  | 11 => 0xBF203C85#32
  | 12 => 0xBF12D5E8#32
  | 13 => 0x3F726A03#32
  | 14 => 0x3D32AA3E#32
  | 15 => 0xBF78A9E0#32
  | 16 => 0x3F000000#32
  | 17 => 0x3F310700#32
  | 18 => 0xBF631324#32
  | 19 => 0xBE47C5C2#32
  | 20 => 0x3F7F069E#32
  | 21 => 0xBEB9917B#32
  | 22 => 0xBF4B1934#32
  | 23 => 0x3F4E7327#32
  | 24 => 0x3EAF1D44#32
  | 25 => 0xBF7F73AF#32
  | 26 => 0x3E5DA259#32
  | 27 => 0x3F60712A#32
  | 28 => 0xBF3504F3#32
  | 29 => 0xBEF64429#32
  | 30 => 0x3F79EE89#32
  | 31 => 0xBD85F213#32
  | 32 => 0xBF708FB2#32
  | 33 => 0x3F176012#32
  | 34 => 0x3F1BD7CA#32
  | 35 => 0xBF6E9811#32
  | 36 => 0xBDB27EB6#32
  | 37 => 0x3F7B14BE#32
  | 38 => 0xBEEC6A50#32
  | 39 => 0xBF38ECD8#32
  | 40 => 0x3F5DB3D7#32
  | 41 => 0x3E7363EE#32
  | 42 => 0xBF7FC1A0#32
  | 43 => 0x3EA493B7#32
  | 44 => 0x3F51B3F3#32
  | 45 => 0xBF47A682#32
  | 46 => 0xBEC3EF15#32
  | 47 => 0x3F7E7A7A#32
  | 48 => 0xBE31D0D4#32
  | 49 => 0xBF659974#32
  | 50 => 0x3F2CF37B#32
  | 51 => 0x3F04CE53#32
  | 52 => 0xBF7746EA#32
  | 53 => 0x3CB2B521#32
  | 54 => 0x3F7426CB#32
  | 55 => 0xBF0E39DA#32
  | 56 => 0xBF248DBB#32
  | 57 => 0x3F6A51DA#32
  | 58 => 0x3E05A8A8#32
  | 59 => 0xBF7D0543#32
  | 60 => 0x3ED8616C#32
  | 61 => 0x3F407893#32
  | 62 => 0xBF57E880#32
  | 63 => 0xBE8F45C0#32
  | 64 => 0x3F800000#32
  | 65 => 0xBE99F61C#32
  | 66 => 0xBF51B3F3#32
  | 67 => 0x3F4B1934#32
  | 68 => 0x3EAF1D44#32
  | 69 => 0xBF7FC1A0#32
  | 70 => 0x3E8483EE#32
  | 71 => 0x3F57E880#32
  | 72 => 0xBF441B7D#32
  | 73 => 0xBEC3EF15#32
  | 74 => 0x3F7F069E#32
  | 75 => 0xBE5DA259#32
  | 76 => 0xBF5DB3D7#32
  | 77 => 0x3F3CBE35#32
  | 78 => 0x3ED8616C#32
  | 79 => 0xBF7DCF55#32
  | 80 => 0x3E31D0D4#32
  | 81 => 0x3F631324#32
  | 82 => 0xBF3504F3#32
  | 83 => 0xBEEC6A50#32
  | 84 => 0x3F7C1C5C#32
  | 85 => 0xBE05A8A8#32
  | 86 => 0xBF6803CA#32
  | 87 => 0x3F2CF37B#32
  | 88 => 0x3F000000#32
  | 89 => 0xBF79EE89#32
  | 90 => 0x3DB27EB6#32
  | 91 => 0x3F6C835E#32
  | 92 => 0xBF248DBB#32
  | 93 => 0xBF098C78#32
  | 94 => 0x3F7746EA#32
  | 95 => 0xBD32AA3E#32
  | 96 => 0xBF708FB2#32
  | 97 => 0x3F1BD7CA#32
  | 98 => 0x3F12D5E8#32
  | 99 => 0xBF7426CB#32
  | 100 => 0xA553C9CA#32
  | 101 => 0x3F7426CB#32
  | 102 => 0xBF12D5E8#32
  | 103 => 0xBF1BD7CA#32
  | 104 => 0x3F708FB2#32
  | 105 => 0x3D32AA3E#32
  | 106 => 0xBF7746EA#32
  | 107 => 0x3F098C78#32
  | 108 => 0x3F248DBB#32
  | 109 => 0xBF6C835E#32
  | 110 => 0xBDB27EB6#32
  | 111 => 0x3F79EE89#32
  | 112 => 0xBF000000#32
  | 113 => 0xBF2CF37B#32
  | 114 => 0x3F6803CA#32
  | 115 => 0x3E05A8A8#32
  | 116 => 0xBF7C1C5C#32
  | 117 => 0x3EEC6A50#32
  | 118 => 0x3F3504F3#32
  | 119 => 0xBF631324#32
  | 120 => 0xBE31D0D4#32
  | 121 => 0x3F7DCF55#32
  | 122 => 0xBED8616C#32
  | 123 => 0xBF3CBE35#32
  | 124 => 0x3F5DB3D7#32
  | 125 => 0x3E5DA259#32
  | 126 => 0xBF7F069E#32
  | 127 => 0x3EC3EF15#32
  | _ => 0#32

noncomputable abbrev lit0t0_194 (i : Nat) : BitVec 32 := match i % 128 with
  | 0 => 0x3F441B7D#32
  | 1 => 0xBF57E880#32
  | 2 => 0xBE8483EE#32
  | 3 => 0x3F7FC1A0#32
  | 4 => 0xBEAF1D44#32
  | 5 => 0xBF4B1934#32
  | 6 => 0x3F51B3F3#32
  | 7 => 0x3E99F61C#32
  | 8 => 0xBF800000#32
  | 9 => 0x3E99F61C#32
  | 10 => 0x3F51B3F3#32
  | 11 => 0xBF4B1934#32
  | 12 => 0xBEAF1D44#32
  | 13 => 0x3F7FC1A0#32
  | 14 => 0xBE8483EE#32
  | 15 => 0xBF57E880#32
  | 16 => 0x3F441B7D#32
  | 17 => 0x3EC3EF15#32
  | 18 => 0xBF7F069E#32
  | 19 => 0x3E5DA259#32
  | 20 => 0x3F5DB3D7#32
  | 21 => 0xBF3CBE35#32
  | 22 => 0xBED8616C#32
  | 23 => 0x3F7DCF55#32
  | 24 => 0xBE31D0D4#32
  | 25 => 0xBF631324#32
  | 26 => 0x3F3504F3#32
  | 27 => 0x3EEC6A50#32
  | 28 => 0xBF7C1C5C#32
  | 29 => 0x3E05A8A8#32
  | 30 => 0x3F6803CA#32
  | 31 => 0xBF2CF37B#32
  | 32 => 0xBF000000#32
  | 33 => 0x3F79EE89#32
  | 34 => 0xBDB27EB6#32
  | 35 => 0xBF6C835E#32
  | 36 => 0x3F248DBB#32
  | 37 => 0x3F098C78#32
  | 38 => 0xBF7746EA#32
  | 39 => 0x3D32AA3E#32
  | 40 => 0x3F708FB2#32
  | 41 => 0xBF1BD7CA#32
  | 42 => 0xBF12D5E8#32
  | 43 => 0x3F7426CB#32
  | 44 => 0x248D3132#32
  | 45 => 0xBF7426CB#32
  | 46 => 0x3F12D5E8#32
  | 47 => 0x3F1BD7CA#32
  | 48 => 0xBF708FB2#32
  | 49 => 0xBD32AA3E#32
  | 50 => 0x3F7746EA#32
  | 51 => 0xBF098C78#32
  | 52 => 0xBF248DBB#32
  | 53 => 0x3F6C835E#32
  | 54 => 0x3DB27EB6#32
  | 55 => 0xBF79EE89#32
  | 56 => 0x3F000000#32
  | 57 => 0x3F2CF37B#32
  | 58 => 0xBF6803CA#32
  | 59 => 0xBE05A8A8#32
  | 60 => 0x3F7C1C5C#32
  | 61 => 0xBEEC6A50#32
  | 62 => 0xBF3504F3#32
  | 63 => 0x3F631324#32
  | 64 => 0x3E31D0D4#32
  | 65 => 0xBF7DCF55#32
  | 66 => 0x3ED8616C#32
  | 67 => 0x3F3CBE35#32
  | 68 => 0xBF5DB3D7#32
  | 69 => 0xBE5DA259#32
  | 70 => 0x3F7F069E#32
  | 71 => 0xBEC3EF15#32
  | 72 => 0xBF441B7D#32
  | 73 => 0x3F57E880#32
  | 74 => 0x3E8483EE#32
  | 75 => 0xBF7FC1A0#32
  | 76 => 0x3EAF1D44#32
  | 77 => 0x3F4B1934#32
  | 78 => 0xBF51B3F3#32
  | 79 => 0xBE99F61C#32
  | 80 => 0x3F800000#32
  | 81 => 0xBE99F61C#32
  | 82 => 0xBF51B3F3#32
  | 83 => 0x3F4B1934#32
  | 84 => 0x3EAF1D44#32
  | 85 => 0xBF7FC1A0#32
  | 86 => 0x3E8483EE#32
  | 87 => 0x3F57E880#32
  | 88 => 0xBF441B7D#32
  | 89 => 0xBEC3EF15#32
  | 90 => 0x3F7F069E#32
  | 91 => 0xBE5DA259#32
  | 92 => 0xBF5DB3D7#32
  | 93 => 0x3F3CBE35#32
  | 94 => 0x3ED8616C#32
  | 95 => 0xBF7DCF55#32
  | 96 => 0x3E31D0D4#32
  | 97 => 0x3F631324#32
  | 98 => 0xBF3504F3#32
  | 99 => 0xBEEC6A50#32
  | 100 => 0x3F7C1C5C#32
  | 101 => 0xBE05A8A8#32
  | 102 => 0xBF6803CA#32
  | 103 => 0x3F2CF37B#32
  | 104 => 0x3F000000#32
  | 105 => 0xBF79EE89#32
  | 106 => 0x3DB27EB6#32
  | 107 => 0x3F6C835E#32
  | 108 => 0xBF248DBB#32
  | 109 => 0xBF098C78#32
  | 110 => 0x3F7746EA#32
  | 111 => 0xBD32AA3E#32
  | 112 => 0xBF708FB2#32
  | 113 => 0x3F1BD7CA#32
  | 114 => 0x3F12D5E8#32
  | 115 => 0xBF7426CB#32
  | 116 => 0xA553C9CA#32
  | 117 => 0x3F7426CB#32
  | 118 => 0xBF12D5E8#32
  | 119 => 0xBF1BD7CA#32
  | 120 => 0x3F708FB2#32
  | 121 => 0x3D32AA3E#32
  | 122 => 0xBF7746EA#32
  | 123 => 0x3F098C78#32
  | 124 => 0x3F248DBB#32
  | 125 => 0xBF6C835E#32
  | 126 => 0xBDB27EB6#32
  | 127 => 0x3F79EE89#32
  | _ => 0#32

noncomputable abbrev lit0t0_195 (i : Nat) : BitVec 32 := match i % 128 with
  | 0 => 0xBF000000#32
  | 1 => 0xBF2CF37B#32
  | 2 => 0x3F6803CA#32
  | 3 => 0x3E05A8A8#32
  | 4 => 0xBF7C1C5C#32
  | 5 => 0x3EEC6A50#32
  | 6 => 0x3F3504F3#32
  | 7 => 0xBF631324#32
  | 8 => 0xBE31D0D4#32
  | 9 => 0x3F7DCF55#32
  | 10 => 0xBED8616C#32
  | 11 => 0xBF3CBE35#32
  | 12 => 0x3F5DB3D7#32
  | 13 => 0x3E5DA259#32
  | 14 => 0xBF7F069E#32
  | 15 => 0x3EC3EF15#32
  | 16 => 0x3F441B7D#32
  | 17 => 0xBF57E880#32
  | 18 => 0xBE8483EE#32
  | 19 => 0x3F7FC1A0#32
  | 20 => 0xBEAF1D44#32
  | 21 => 0xBF4B1934#32
  | 22 => 0x3F51B3F3#32
  | 23 => 0x3E99F61C#32
  | 24 => 0xBF800000#32
  | 25 => 0x3E99F61C#32
  | 26 => 0x3F51B3F3#32
  | 27 => 0xBF4B1934#32
  | 28 => 0xBEAF1D44#32
  | 29 => 0x3F7FC1A0#32
  | 30 => 0xBE8483EE#32
  | 31 => 0xBF57E880#32
  | 32 => 0x3F441B7D#32
  | 33 => 0x3EC3EF15#32
  | 34 => 0xBF7F069E#32
  | 35 => 0x3E5DA259#32
  | 36 => 0x3F5DB3D7#32
  | 37 => 0xBF3CBE35#32
  | 38 => 0xBED8616C#32
  | 39 => 0x3F7DCF55#32
  | 40 => 0xBE31D0D4#32
  | 41 => 0xBF631324#32
  | 42 => 0x3F3504F3#32
  | 43 => 0x3EEC6A50#32
  | 44 => 0xBF7C1C5C#32
  | 45 => 0x3E05A8A8#32
  | 46 => 0x3F6803CA#32
  | 47 => 0xBF2CF37B#32
  | 48 => 0xBF000000#32
  | 49 => 0x3F79EE89#32
  | 50 => 0xBDB27EB6#32
  | 51 => 0xBF6C835E#32
  | 52 => 0x3F248DBB#32
  | 53 => 0x3F098C78#32
  | 54 => 0xBF7746EA#32
  | 55 => 0x3D32AA3E#32
  | 56 => 0x3F708FB2#32
  | 57 => 0xBF1BD7CA#32
  | 58 => 0xBF12D5E8#32
  | 59 => 0x3F7426CB#32
  | 60 => 0x248D3132#32
  | 61 => 0xBF7426CB#32
  | 62 => 0x3F12D5E8#32
  | 63 => 0x3F1BD7CA#32
  | 64 => 0xBF708FB2#32
  | 65 => 0xBD32AA3E#32
  | 66 => 0x3F7746EA#32
  | 67 => 0xBF098C78#32
  | 68 => 0xBF248DBB#32
  | 69 => 0x3F6C835E#32
  | 70 => 0x3DB27EB6#32
  | 71 => 0xBF79EE89#32
  | 72 => 0x3F000000#32
  | 73 => 0x3F2CF37B#32
  | 74 => 0xBF6803CA#32
  | 75 => 0xBE05A8A8#32
  | 76 => 0x3F7C1C5C#32
  | 77 => 0xBEEC6A50#32
  | 78 => 0xBF3504F3#32
  | 79 => 0x3F631324#32
  | 80 => 0x3E31D0D4#32
  | 81 => 0xBF7DCF55#32
  | 82 => 0x3ED8616C#32
  | 83 => 0x3F3CBE35#32
  | 84 => 0xBF5DB3D7#32
  | 85 => 0xBE5DA259#32
  | 86 => 0x3F7F069E#32
  | 87 => 0xBEC3EF15#32
  | 88 => 0xBF441B7D#32
  | 89 => 0x3F57E880#32
  | 90 => 0x3E8483EE#32
  | 91 => 0xBF7FC1A0#32
  | 92 => 0x3EAF1D44#32
  | 93 => 0x3F4B1934#32
  | 94 => 0xBF51B3F3#32
  | 95 => 0xBE99F61C#32
  | 96 => 0x3F800000#32
  | 97 => 0xBEA493B7#32
  | 98 => 0xBF4B1934#32
  | 99 => 0x3F54DB31#32
  | 100 => 0x3E8483EE#32
  | 101 => 0xBF7F73AF#32
  | 102 => 0x3EC3EF15#32
  | 103 => 0x3F407893#32
  | 104 => 0xBF5DB3D7#32
  | 105 => 0xBE47C5C2#32
  | 106 => 0x3F7DCF55#32
  | 107 => 0xBEE273AA#32
  | 108 => 0xBF3504F3#32
  | 109 => 0x3F659974#32
  | 110 => 0x3E05A8A8#32
  | 111 => 0xBF7B14BE#32
  | 112 => 0x3F000000#32
  | 113 => 0x3F28CAE3#32
  | 114 => 0xBF6C835E#32
  | 115 => 0xBD85F213#32
  | 116 => 0x3F7746EA#32
  | 117 => 0xBF0E39DA#32
  | 118 => 0xBF1BD7CA#32
  | 119 => 0x3F726A03#32
  | 120 => 0x248D3132#32
  | 121 => 0xBF726A03#32
  | 122 => 0x3F1BD7CA#32
  | 123 => 0x3F0E39DA#32
  | 124 => 0xBF7746EA#32
  | 125 => 0x3D85F213#32
  | 126 => 0x3F6C835E#32
  | 127 => 0xBF28CAE3#32
  | _ => 0#32

noncomputable abbrev lit0t0_196 (i : Nat) : BitVec 32 := match i % 128 with
  | 0 => 0xBF000000#32
  | 1 => 0x3F7B14BE#32
  | 2 => 0xBE05A8A8#32
  | 3 => 0xBF659974#32
  | 4 => 0x3F3504F3#32
  | 5 => 0x3EE273AA#32
  | 6 => 0xBF7DCF55#32
  | 7 => 0x3E47C5C2#32
  | 8 => 0x3F5DB3D7#32
  | 9 => 0xBF407893#32
  | 10 => 0xBEC3EF15#32
  | 11 => 0x3F7F73AF#32
  | 12 => 0xBE8483EE#32
  | 13 => 0xBF54DB31#32
  | 14 => 0x3F4B1934#32
  | 15 => 0x3EA493B7#32
  | 16 => 0xBF800000#32
  | 17 => 0x3EA493B7#32
  | 18 => 0x3F4B1934#32
  | 19 => 0xBF54DB31#32
  | 20 => 0xBE8483EE#32
  | 21 => 0x3F7F73AF#32
  | 22 => 0xBEC3EF15#32
  | 23 => 0xBF407893#32
  | 24 => 0x3F5DB3D7#32
  | 25 => 0x3E47C5C2#32
  | 26 => 0xBF7DCF55#32
  | 27 => 0x3EE273AA#32
  | 28 => 0x3F3504F3#32
  | 29 => 0xBF659974#32
  | 30 => 0xBE05A8A8#32
  | 31 => 0x3F7B14BE#32
  | 32 => 0xBF000000#32
  | 33 => 0xBF28CAE3#32
  | 34 => 0x3F6C835E#32
  | 35 => 0x3D85F213#32
  | 36 => 0xBF7746EA#32
  | 37 => 0x3F0E39DA#32
  | 38 => 0x3F1BD7CA#32
  | 39 => 0xBF726A03#32
  | 40 => 0xA553C9CA#32
  | 41 => 0x3F726A03#32
  | 42 => 0xBF1BD7CA#32
  | 43 => 0xBF0E39DA#32
  | 44 => 0x3F7746EA#32
  | 45 => 0xBD85F213#32
  | 46 => 0xBF6C835E#32
  | 47 => 0x3F28CAE3#32
  | 48 => 0x3F000000#32
  | 49 => 0xBF7B14BE#32
  | 50 => 0x3E05A8A8#32
  | 51 => 0x3F659974#32
  | 52 => 0xBF3504F3#32
  | 53 => 0xBEE273AA#32
  | 54 => 0x3F7DCF55#32
  | 55 => 0xBE47C5C2#32
  | 56 => 0xBF5DB3D7#32
  | 57 => 0x3F407893#32
  | 58 => 0x3EC3EF15#32
  | 59 => 0xBF7F73AF#32
  | 60 => 0x3E8483EE#32
  | 61 => 0x3F54DB31#32
  | 62 => 0xBF4B1934#32
  | 63 => 0xBEA493B7#32
  | 64 => 0x3F800000#32
  | 65 => 0xBEA493B7#32
  | 66 => 0xBF4B1934#32
  | 67 => 0x3F54DB31#32
  | 68 => 0x3E8483EE#32
  | 69 => 0xBF7F73AF#32
  | 70 => 0x3EC3EF15#32
  | 71 => 0x3F407893#32
  | 72 => 0xBF5DB3D7#32
  | 73 => 0xBE47C5C2#32
  | 74 => 0x3F7DCF55#32
  | 75 => 0xBEE273AA#32
  | 76 => 0xBF3504F3#32
  | 77 => 0x3F659974#32
  | 78 => 0x3E05A8A8#32
  | 79 => 0xBF7B14BE#32
  | 80 => 0x3F000000#32
  | 81 => 0x3F28CAE3#32
  | 82 => 0xBF6C835E#32
  | 83 => 0xBD85F213#32
  | 84 => 0x3F7746EA#32
  | 85 => 0xBF0E39DA#32
  | 86 => 0xBF1BD7CA#32
  | 87 => 0x3F726A03#32
  | 88 => 0x248D3132#32
  | 89 => 0xBF726A03#32
  | 90 => 0x3F1BD7CA#32
  | 91 => 0x3F0E39DA#32
  | 92 => 0xBF7746EA#32
  | 93 => 0x3D85F213#32
  | 94 => 0x3F6C835E#32
  | 95 => 0xBF28CAE3#32
  | 96 => 0xBF000000#32
  | 97 => 0x3F7B14BE#32
  | 98 => 0xBE05A8A8#32
  | 99 => 0xBF659974#32
  | 100 => 0x3F3504F3#32
  | 101 => 0x3EE273AA#32
  | 102 => 0xBF7DCF55#32
  | 103 => 0x3E47C5C2#32
  | 104 => 0x3F5DB3D7#32
  | 105 => 0xBF407893#32
  | 106 => 0xBEC3EF15#32
  | 107 => 0x3F7F73AF#32
  | 108 => 0xBE8483EE#32
  | 109 => 0xBF54DB31#32
  | 110 => 0x3F4B1934#32
  | 111 => 0x3EA493B7#32
  | 112 => 0xBF800000#32
  | 113 => 0x3EA493B7#32
  | 114 => 0x3F4B1934#32
  | 115 => 0xBF54DB31#32
  | 116 => 0xBE8483EE#32
  | 117 => 0x3F7F73AF#32
  | 118 => 0xBEC3EF15#32
  | 119 => 0xBF407893#32
  | 120 => 0x3F5DB3D7#32
  | 121 => 0x3E47C5C2#32
  | 122 => 0xBF7DCF55#32
  | 123 => 0x3EE273AA#32
  | 124 => 0x3F3504F3#32
  | 125 => 0xBF659974#32
  | 126 => 0xBE05A8A8#32
  | 127 => 0x3F7B14BE#32
  | _ => 0#32

noncomputable abbrev lit0t0_197 (i : Nat) : BitVec 32 := match i % 128 with
  | 0 => 0xBF000000#32
  | 1 => 0xBF28CAE3#32
  | 2 => 0x3F6C835E#32
  | 3 => 0x3D85F213#32
  | 4 => 0xBF7746EA#32
  | 5 => 0x3F0E39DA#32
  | 6 => 0x3F1BD7CA#32
  | 7 => 0xBF726A03#32
  | 8 => 0xA553C9CA#32
  | 9 => 0x3F726A03#32
  | 10 => 0xBF1BD7CA#32
  | 11 => 0xBF0E39DA#32
  | 12 => 0x3F7746EA#32
  | 13 => 0xBD85F213#32
  | 14 => 0xBF6C835E#32
  | 15 => 0x3F28CAE3#32
  | 16 => 0x3F000000#32
  | 17 => 0xBF7B14BE#32
  | 18 => 0x3E05A8A8#32
  | 19 => 0x3F659974#32
  | 20 => 0xBF3504F3#32
  | 21 => 0xBEE273AA#32
  | 22 => 0x3F7DCF55#32
  | 23 => 0xBE47C5C2#32
  | 24 => 0xBF5DB3D7#32
  | 25 => 0x3F407893#32
  | 26 => 0x3EC3EF15#32
  | 27 => 0xBF7F73AF#32
  | 28 => 0x3E8483EE#32
  | 29 => 0x3F54DB31#32
  | 30 => 0xBF4B1934#32
  | 31 => 0xBEA493B7#32
  | 32 => 0x3F800000#32
  | 33 => 0xBEA493B7#32
  | 34 => 0xBF4B1934#32
  | 35 => 0x3F54DB31#32
  | 36 => 0x3E8483EE#32
  | 37 => 0xBF7F73AF#32
  | 38 => 0x3EC3EF15#32
  | 39 => 0x3F407893#32
  | 40 => 0xBF5DB3D7#32
  | 41 => 0xBE47C5C2#32
  | 42 => 0x3F7DCF55#32
  | 43 => 0xBEE273AA#32
  | 44 => 0xBF3504F3#32
  | 45 => 0x3F659974#32
  | 46 => 0x3E05A8A8#32
  | 47 => 0xBF7B14BE#32
  | 48 => 0x3F000000#32
  | 49 => 0x3F28CAE3#32
  | 50 => 0xBF6C835E#32
  | 51 => 0xBD85F213#32
  | 52 => 0x3F7746EA#32
  | 53 => 0xBF0E39DA#32
  | 54 => 0xBF1BD7CA#32
  | 55 => 0x3F726A03#32
  | 56 => 0x248D3132#32
  | 57 => 0xBF726A03#32
  | 58 => 0x3F1BD7CA#32
  | 59 => 0x3F0E39DA#32
  | 60 => 0xBF7746EA#32
  | 61 => 0x3D85F213#32
  | 62 => 0x3F6C835E#32
  | 63 => 0xBF28CAE3#32
  | 64 => 0xBF000000#32
  | 65 => 0x3F7B14BE#32
  | 66 => 0xBE05A8A8#32
  | 67 => 0xBF659974#32
  | 68 => 0x3F3504F3#32
  | 69 => 0x3EE273AA#32
  | 70 => 0xBF7DCF55#32
  | 71 => 0x3E47C5C2#32
  | 72 => 0x3F5DB3D7#32
  | 73 => 0xBF407893#32
  | 74 => 0xBEC3EF15#32
  | 75 => 0x3F7F73AF#32
  | 76 => 0xBE8483EE#32
  | 77 => 0xBF54DB31#32
  | 78 => 0x3F4B1934#32
  | 79 => 0x3EA493B7#32
  | 80 => 0xBF800000#32
  | 81 => 0x3EA493B7#32
  | 82 => 0x3F4B1934#32
  | 83 => 0xBF54DB31#32
  | 84 => 0xBE8483EE#32
  | 85 => 0x3F7F73AF#32
  | 86 => 0xBEC3EF15#32
  | 87 => 0xBF407893#32
  | 88 => 0x3F5DB3D7#32
  | 89 => 0x3E47C5C2#32
  | 90 => 0xBF7DCF55#32
  | 91 => 0x3EE273AA#32
  | 92 => 0x3F3504F3#32
  | 93 => 0xBF659974#32
  | 94 => 0xBE05A8A8#32
  | 95 => 0x3F7B14BE#32
  | 96 => 0xBF000000#32
  | 97 => 0xBF28CAE3#32
  | 98 => 0x3F6C835E#32
  | 99 => 0x3D85F213#32
  | 100 => 0xBF7746EA#32
  | 101 => 0x3F0E39DA#32
  | 102 => 0x3F1BD7CA#32
  | 103 => 0xBF726A03#32
  | 104 => 0xA553C9CA#32
  | 105 => 0x3F726A03#32
  | 106 => 0xBF1BD7CA#32
  | 107 => 0xBF0E39DA#32
  | 108 => 0x3F7746EA#32
  | 109 => 0xBD85F213#32
  | 110 => 0xBF6C835E#32
  | 111 => 0x3F28CAE3#32
  | 112 => 0x3F000000#32
  | 113 => 0xBF7B14BE#32
  | 114 => 0x3E05A8A8#32
  | 115 => 0x3F659974#32
  | 116 => 0xBF3504F3#32
  | 117 => 0xBEE273AA#32
  | 118 => 0x3F7DCF55#32
  | 119 => 0xBE47C5C2#32
  | 120 => 0xBF5DB3D7#32
  | 121 => 0x3F407893#32
  | 122 => 0x3EC3EF15#32
  | 123 => 0xBF7F73AF#32
  | 124 => 0x3E8483EE#32
  | 125 => 0x3F54DB31#32
  | 126 => 0xBF4B1934#32
  | 127 => 0xBEA493B7#32
  | _ => 0#32

noncomputable abbrev lit0t0_198 (i : Nat) : BitVec 32 := match i % 128 with
  | 0 => 0x3F800000#32
  | 1 => 0xBEAF1D44#32
  | 2 => 0xBF441B7D#32
  | 3 => 0x3F5DB3D7#32
  | 4 => 0x3E31D0D4#32
  | 5 => 0xBF7C1C5C#32
  | 6 => 0x3F000000#32
  | 7 => 0x3F248DBB#32
  | 8 => 0xBF708FB2#32
  | 9 => 0xA553C9CA#32
  | 10 => 0x3F708FB2#32
  | 11 => 0xBF248DBB#32
  | 12 => 0xBF000000#32
  | 13 => 0x3F7C1C5C#32
  | 14 => 0xBE31D0D4#32
  | 15 => 0xBF5DB3D7#32
  | 16 => 0x3F441B7D#32
  | 17 => 0x3EAF1D44#32
  | 18 => 0xBF800000#32
  | 19 => 0x3EAF1D44#32
  | 20 => 0x3F441B7D#32
  | 21 => 0xBF5DB3D7#32
  | 22 => 0xBE31D0D4#32
  | 23 => 0x3F7C1C5C#32
  | 24 => 0xBF000000#32
  | 25 => 0xBF248DBB#32
  | 26 => 0x3F708FB2#32
  | 27 => 0x248D3132#32
  | 28 => 0xBF708FB2#32
  | 29 => 0x3F248DBB#32
  | 30 => 0x3F000000#32
  | 31 => 0xBF7C1C5C#32
  | 32 => 0x3E31D0D4#32
  | 33 => 0x3F5DB3D7#32
  | 34 => 0xBF441B7D#32
  | 35 => 0xBEAF1D44#32
  | 36 => 0x3F800000#32
  | 37 => 0xBEAF1D44#32
  | 38 => 0xBF441B7D#32
  | 39 => 0x3F5DB3D7#32
  | 40 => 0x3E31D0D4#32
  | 41 => 0xBF7C1C5C#32
  | 42 => 0x3F000000#32
  | 43 => 0x3F248DBB#32
  | 44 => 0xBF708FB2#32
  | 45 => 0xA553C9CA#32
  | 46 => 0x3F708FB2#32
  | 47 => 0xBF248DBB#32
  | 48 => 0xBF000000#32
  | 49 => 0x3F7C1C5C#32
  | 50 => 0xBE31D0D4#32
  | 51 => 0xBF5DB3D7#32
  | 52 => 0x3F441B7D#32
  | 53 => 0x3EAF1D44#32
  | 54 => 0xBF800000#32
  | 55 => 0x3EAF1D44#32
  | 56 => 0x3F441B7D#32
  | 57 => 0xBF5DB3D7#32
  | 58 => 0xBE31D0D4#32
  | 59 => 0x3F7C1C5C#32
  | 60 => 0xBF000000#32
  | 61 => 0xBF248DBB#32
  | 62 => 0x3F708FB2#32
  | 63 => 0x248D3132#32
  | 64 => 0xBF708FB2#32
  | 65 => 0x3F248DBB#32
  | 66 => 0x3F000000#32
  | 67 => 0xBF7C1C5C#32
  | 68 => 0x3E31D0D4#32
  | 69 => 0x3F5DB3D7#32
  | 70 => 0xBF441B7D#32
  | 71 => 0xBEAF1D44#32
  | 72 => 0x3F800000#32
  | 73 => 0xBEAF1D44#32
  | 74 => 0xBF441B7D#32
  | 75 => 0x3F5DB3D7#32
  | 76 => 0x3E31D0D4#32
  | 77 => 0xBF7C1C5C#32
  | 78 => 0x3F000000#32
  | 79 => 0x3F248DBB#32
  | 80 => 0xBF708FB2#32
  | 81 => 0xA553C9CA#32
  | 82 => 0x3F708FB2#32
  | 83 => 0xBF248DBB#32
  | 84 => 0xBF000000#32
  | 85 => 0x3F7C1C5C#32
  | 86 => 0xBE31D0D4#32
  | 87 => 0xBF5DB3D7#32
  | 88 => 0x3F441B7D#32
  | 89 => 0x3EAF1D44#32
  | 90 => 0xBF800000#32
  | 91 => 0x3EAF1D44#32
  | 92 => 0x3F441B7D#32
  | 93 => 0xBF5DB3D7#32
  | 94 => 0xBE31D0D4#32
  | 95 => 0x3F7C1C5C#32
  | 96 => 0xBF000000#32
  | 97 => 0xBF248DBB#32
  | 98 => 0x3F708FB2#32
  | 99 => 0x248D3132#32
  | 100 => 0xBF708FB2#32
  | 101 => 0x3F248DBB#32
  | 102 => 0x3F000000#32
  | 103 => 0xBF7C1C5C#32
  | 104 => 0x3E31D0D4#32
  | 105 => 0x3F5DB3D7#32
  | 106 => 0xBF441B7D#32
  | 107 => 0xBEAF1D44#32
  | 108 => 0x3F800000#32
  | 109 => 0xBEAF1D44#32
  | 110 => 0xBF441B7D#32
  | 111 => 0x3F5DB3D7#32
  | 112 => 0x3E31D0D4#32
  | 113 => 0xBF7C1C5C#32
  | 114 => 0x3F000000#32
  | 115 => 0x3F248DBB#32
  | 116 => 0xBF708FB2#32
  | 117 => 0xA553C9CA#32
  | 118 => 0x3F708FB2#32
  | 119 => 0xBF248DBB#32
  | 120 => 0xBF000000#32
  | 121 => 0x3F7C1C5C#32
  | 122 => 0xBE31D0D4#32
  | 123 => 0xBF5DB3D7#32
  | 124 => 0x3F441B7D#32
  | 125 => 0x3EAF1D44#32
  | 126 => 0xBF800000#32
  | 127 => 0x3EAF1D44#32
  | _ => 0#32

noncomputable abbrev lit0t0_199 (i : Nat) : BitVec 32 := match i % 128 with
  | 0 => 0x3F441B7D#32
  | 1 => 0xBF5DB3D7#32
  | 2 => 0xBE31D0D4#32
  | 3 => 0x3F7C1C5C#32
  | 4 => 0xBF000000#32
  | 5 => 0xBF248DBB#32
  | 6 => 0x3F708FB2#32
  | 7 => 0x248D3132#32
  | 8 => 0xBF708FB2#32
  | 9 => 0x3F248DBB#32
  | 10 => 0x3F000000#32
  | 11 => 0xBF7C1C5C#32
  | 12 => 0x3E31D0D4#32
  | 13 => 0x3F5DB3D7#32
  | 14 => 0xBF441B7D#32
  | 15 => 0xBEAF1D44#32
  | 16 => 0x3F800000#32
  | 17 => 0xBEAF1D44#32
  | 18 => 0xBF441B7D#32
  | 19 => 0x3F5DB3D7#32
  | 20 => 0x3E31D0D4#32
  | 21 => 0xBF7C1C5C#32
  | 22 => 0x3F000000#32
  | 23 => 0x3F248DBB#32
  | 24 => 0xBF708FB2#32
  | 25 => 0xA553C9CA#32
  | 26 => 0x3F708FB2#32
  | 27 => 0xBF248DBB#32
  | 28 => 0xBF000000#32
  | 29 => 0x3F7C1C5C#32
  | 30 => 0xBE31D0D4#32
  | 31 => 0xBF5DB3D7#32
  | 32 => 0x3F441B7D#32
  | 33 => 0x3EAF1D44#32
  | 34 => 0xBF800000#32
  | 35 => 0x3EAF1D44#32
  | 36 => 0x3F441B7D#32
  | 37 => 0xBF5DB3D7#32
  | 38 => 0xBE31D0D4#32
  | 39 => 0x3F7C1C5C#32
  | 40 => 0xBF000000#32
  | 41 => 0xBF248DBB#32
  | 42 => 0x3F708FB2#32
  | 43 => 0x248D3132#32
  | 44 => 0xBF708FB2#32
  | 45 => 0x3F248DBB#32
  | 46 => 0x3F000000#32
  | 47 => 0xBF7C1C5C#32
  | 48 => 0x3E31D0D4#32
  | 49 => 0x3F5DB3D7#32
  | 50 => 0xBF441B7D#32
  | 51 => 0xBEAF1D44#32
  | 52 => 0x3F800000#32
  | 53 => 0xBEAF1D44#32
  | 54 => 0xBF441B7D#32
  | 55 => 0x3F5DB3D7#32
  | 56 => 0x3E31D0D4#32
  | 57 => 0xBF7C1C5C#32
  | 58 => 0x3F000000#32
  | 59 => 0x3F248DBB#32
  | 60 => 0xBF708FB2#32
  | 61 => 0xA553C9CA#32
  | 62 => 0x3F708FB2#32
  | 63 => 0xBF248DBB#32
  | 64 => 0xBF000000#32
  | 65 => 0x3F7C1C5C#32
  | 66 => 0xBE31D0D4#32
  | 67 => 0xBF5DB3D7#32
  | 68 => 0x3F441B7D#32
  | 69 => 0x3EAF1D44#32
  | 70 => 0xBF800000#32
  | 71 => 0x3EAF1D44#32
  | 72 => 0x3F441B7D#32
  | 73 => 0xBF5DB3D7#32
  | 74 => 0xBE31D0D4#32
  | 75 => 0x3F7C1C5C#32
  | 76 => 0xBF000000#32
  | 77 => 0xBF248DBB#32
  | 78 => 0x3F708FB2#32
  | 79 => 0x248D3132#32
  | 80 => 0xBF708FB2#32
  | 81 => 0x3F248DBB#32
  | 82 => 0x3F000000#32
  | 83 => 0xBF7C1C5C#32
  | 84 => 0x3E31D0D4#32
  | 85 => 0x3F5DB3D7#32
  | 86 => 0xBF441B7D#32
  | 87 => 0xBEAF1D44#32
  | 88 => 0x3F800000#32
  | 89 => 0xBEAF1D44#32
  | 90 => 0xBF441B7D#32
  | 91 => 0x3F5DB3D7#32
  | 92 => 0x3E31D0D4#32
  | 93 => 0xBF7C1C5C#32
  | 94 => 0x3F000000#32
  | 95 => 0x3F248DBB#32
  | 96 => 0xBF708FB2#32
  | 97 => 0xA553C9CA#32
  | 98 => 0x3F708FB2#32
  | 99 => 0xBF248DBB#32
  | 100 => 0xBF000000#32
  | 101 => 0x3F7C1C5C#32
  | 102 => 0xBE31D0D4#32
  | 103 => 0xBF5DB3D7#32
  | 104 => 0x3F441B7D#32
  | 105 => 0x3EAF1D44#32
  | 106 => 0xBF800000#32
  | 107 => 0x3EAF1D44#32
  | 108 => 0x3F441B7D#32
  | 109 => 0xBF5DB3D7#32
  | 110 => 0xBE31D0D4#32
  | 111 => 0x3F7C1C5C#32
  | 112 => 0xBF000000#32
  | 113 => 0xBF248DBB#32
  | 114 => 0x3F708FB2#32
  | 115 => 0x248D3132#32
  | 116 => 0xBF708FB2#32
  | 117 => 0x3F248DBB#32
  | 118 => 0x3F000000#32
  | 119 => 0xBF7C1C5C#32
  | 120 => 0x3E31D0D4#32
  | 121 => 0x3F5DB3D7#32
  | 122 => 0xBF441B7D#32
  | 123 => 0xBEAF1D44#32
  | 124 => 0x3F800000#32
  | 125 => 0xBEAF1D44#32
  | 126 => 0xBF441B7D#32
  | 127 => 0x3F5DB3D7#32
  | _ => 0#32

noncomputable abbrev lit0t0_200 (i : Nat) : BitVec 32 := match i % 128 with
  | 0 => 0x3E31D0D4#32
  | 1 => 0xBF7C1C5C#32
  | 2 => 0x3F000000#32
  | 3 => 0x3F248DBB#32
  | 4 => 0xBF708FB2#32
  | 5 => 0xA553C9CA#32
  | 6 => 0x3F708FB2#32
  | 7 => 0xBF248DBB#32
  | 8 => 0xBF000000#32
  | 9 => 0x3F7C1C5C#32
  | 10 => 0xBE31D0D4#32
  | 11 => 0xBF5DB3D7#32
  | 12 => 0x3F441B7D#32
  | 13 => 0x3EAF1D44#32
  | 14 => 0xBF800000#32
  | 15 => 0x3EAF1D44#32
  | 16 => 0x3F441B7D#32
  | 17 => 0xBF5DB3D7#32
  | 18 => 0xBE31D0D4#32
  | 19 => 0x3F7C1C5C#32
  | 20 => 0xBF000000#32
  | 21 => 0xBF248DBB#32
  | 22 => 0x3F708FB2#32
  | 23 => 0x248D3132#32
  | 24 => 0xBF708FB2#32
  | 25 => 0x3F248DBB#32
  | 26 => 0x3F000000#32
  | 27 => 0xBF7C1C5C#32
  | 28 => 0x3E31D0D4#32
  | 29 => 0x3F5DB3D7#32
  | 30 => 0xBF441B7D#32
  | 31 => 0xBEAF1D44#32
  | 32 => 0x3F800000#32
  | 33 => 0xBEB9917B#32
  | 34 => 0xBF3CBE35#32
  | 35 => 0x3F659974#32
  | 36 => 0x3DB27EB6#32
  | 37 => 0xBF75C5D4#32
  | 38 => 0x3F1BD7CA#32
  | 39 => 0x3F04CE53#32
  | 40 => 0xBF7C1C5C#32
  | 41 => 0x3E47C5C2#32
  | 42 => 0x3F57E880#32
  | 43 => 0xBF4E7327#32
  | 44 => 0xBE8483EE#32
  | 45 => 0x3F7E7A7A#32
  | 46 => 0xBEEC6A50#32
  | 47 => 0xBF28CAE3#32
  | 48 => 0x3F708FB2#32
  | 49 => 0xBCB2B521#32
  | 50 => 0xBF6C835E#32
  | 51 => 0x3F310700#32
  | 52 => 0x3ED8616C#32
  | 53 => 0xBF7F73AF#32
  | 54 => 0x3E99F61C#32
  | 55 => 0x3F47A682#32
  | 56 => 0xBF5DB3D7#32
  | 57 => 0xBE1BC63C#32
  | 58 => 0x3F79EE89#32
  | 59 => 0xBF0E39DA#32
  | 60 => 0xBF12D5E8#32
  | 61 => 0x3F78A9E0#32
  | 62 => 0xBE05A8A8#32
  | 63 => 0xBF60712A#32
  | 64 => 0x3F441B7D#32
  | 65 => 0x3EA493B7#32
  | 66 => 0xBF7FC1A0#32
  | 67 => 0x3ECE34D0#32
  | 68 => 0x3F3504F3#32
  | 69 => 0xBF6A51DA#32
  | 70 => 0xBD32AA3E#32
  | 71 => 0x3F726A03#32
  | 72 => 0xBF248DBB#32
  | 73 => 0xBEF64429#32
  | 74 => 0x3F7DCF55#32
  | 75 => 0xBE7363EE#32
  | 76 => 0xBF51B3F3#32
  | 77 => 0x3F54DB31#32
  | 78 => 0x3E5DA259#32
  | 79 => 0xBF7D0543#32
  | 80 => 0x3F000000#32
  | 81 => 0x3F203C85#32
  | 82 => 0xBF7426CB#32
  | 83 => 0x3D85F213#32
  | 84 => 0x3F6803CA#32
  | 85 => 0xBF38ECD8#32
  | 86 => 0xBEC3EF15#32
  | 87 => 0x3F7FF067#32
  | 88 => 0xBEAF1D44#32
  | 89 => 0xBF407893#32
  | 90 => 0x3F631324#32
  | 91 => 0x3DDEF599#32
  | 92 => 0xBF7746EA#32
  | 93 => 0x3F176012#32
  | 94 => 0x3F098C78#32
  | 95 => 0xBF7B14BE#32
  | 96 => 0x3E31D0D4#32
  | 97 => 0x3F5ADB81#32
  | 98 => 0xBF4B1934#32
  | 99 => 0xBE8F45C0#32
  | 100 => 0x3F7F069E#32
  | 101 => 0xBEE273AA#32
  | 102 => 0xBF2CF37B#32
  | 103 => 0x3F6E9811#32
  | 104 => 0x248D3132#32
  | 105 => 0xBF6E9811#32
  | 106 => 0x3F2CF37B#32
  | 107 => 0x3EE273AA#32
  | 108 => 0xBF7F069E#32
  | 109 => 0x3E8F45C0#32
  | 110 => 0x3F4B1934#32
  | 111 => 0xBF5ADB81#32
  | 112 => 0xBE31D0D4#32
  | 113 => 0x3F7B14BE#32
  | 114 => 0xBF098C78#32
  | 115 => 0xBF176012#32
  | 116 => 0x3F7746EA#32
  | 117 => 0xBDDEF599#32
  | 118 => 0xBF631324#32
  | 119 => 0x3F407893#32
  | 120 => 0x3EAF1D44#32
  | 121 => 0xBF7FF067#32
  | 122 => 0x3EC3EF15#32
  | 123 => 0x3F38ECD8#32
  | 124 => 0xBF6803CA#32
  | 125 => 0xBD85F213#32
  | 126 => 0x3F7426CB#32
  | 127 => 0xBF203C85#32
  | _ => 0#32

noncomputable abbrev lit0t0_201 (i : Nat) : BitVec 32 := match i % 128 with
  | 0 => 0xBF000000#32
  | 1 => 0x3F7D0543#32
  | 2 => 0xBE5DA259#32
  | 3 => 0xBF54DB31#32
  | 4 => 0x3F51B3F3#32
  | 5 => 0x3E7363EE#32
  | 6 => 0xBF7DCF55#32
  | 7 => 0x3EF64429#32
  | 8 => 0x3F248DBB#32
  | 9 => 0xBF726A03#32
  | 10 => 0x3D32AA3E#32
  | 11 => 0x3F6A51DA#32
  | 12 => 0xBF3504F3#32
  | 13 => 0xBECE34D0#32
  | 14 => 0x3F7FC1A0#32
  | 15 => 0xBEA493B7#32
  | 16 => 0xBF441B7D#32
  | 17 => 0x3F60712A#32
  | 18 => 0x3E05A8A8#32
  | 19 => 0xBF78A9E0#32
  | 20 => 0x3F12D5E8#32
  | 21 => 0x3F0E39DA#32
  | 22 => 0xBF79EE89#32
  | 23 => 0x3E1BC63C#32
  | 24 => 0x3F5DB3D7#32
  | 25 => 0xBF47A682#32
  | 26 => 0xBE99F61C#32
  | 27 => 0x3F7F73AF#32
  | 28 => 0xBED8616C#32
  | 29 => 0xBF310700#32
  | 30 => 0x3F6C835E#32
  | 31 => 0x3CB2B521#32
  | 32 => 0xBF708FB2#32
  | 33 => 0x3F28CAE3#32
  | 34 => 0x3EEC6A50#32
  | 35 => 0xBF7E7A7A#32
  | 36 => 0x3E8483EE#32
  | 37 => 0x3F4E7327#32
  | 38 => 0xBF57E880#32
  | 39 => 0xBE47C5C2#32
  | 40 => 0x3F7C1C5C#32
  | 41 => 0xBF04CE53#32
  | 42 => 0xBF1BD7CA#32
  | 43 => 0x3F75C5D4#32
  | 44 => 0xBDB27EB6#32
  | 45 => 0xBF659974#32
  | 46 => 0x3F3CBE35#32
  | 47 => 0x3EB9917B#32
  | 48 => 0xBF800000#32
  | 49 => 0x3EB9917B#32
  | 50 => 0x3F3CBE35#32
  | 51 => 0xBF659974#32
  | 52 => 0xBDB27EB6#32
  | 53 => 0x3F75C5D4#32
  | 54 => 0xBF1BD7CA#32
  | 55 => 0xBF04CE53#32
  | 56 => 0x3F7C1C5C#32
  | 57 => 0xBE47C5C2#32
  | 58 => 0xBF57E880#32
  | 59 => 0x3F4E7327#32
  | 60 => 0x3E8483EE#32
  | 61 => 0xBF7E7A7A#32
  | 62 => 0x3EEC6A50#32
  | 63 => 0x3F28CAE3#32
  | 64 => 0xBF708FB2#32
  | 65 => 0x3CB2B521#32
  | 66 => 0x3F6C835E#32
  | 67 => 0xBF310700#32
  | 68 => 0xBED8616C#32
  | 69 => 0x3F7F73AF#32
  | 70 => 0xBE99F61C#32
  | 71 => 0xBF47A682#32
  | 72 => 0x3F5DB3D7#32
  | 73 => 0x3E1BC63C#32
  | 74 => 0xBF79EE89#32
  | 75 => 0x3F0E39DA#32
  | 76 => 0x3F12D5E8#32
  | 77 => 0xBF78A9E0#32
  | 78 => 0x3E05A8A8#32
  | 79 => 0x3F60712A#32
  | 80 => 0xBF441B7D#32
  | 81 => 0xBEA493B7#32
  | 82 => 0x3F7FC1A0#32
  | 83 => 0xBECE34D0#32
  | 84 => 0xBF3504F3#32
  | 85 => 0x3F6A51DA#32
  | 86 => 0x3D32AA3E#32
  | 87 => 0xBF726A03#32
  | 88 => 0x3F248DBB#32
  | 89 => 0x3EF64429#32
  | 90 => 0xBF7DCF55#32
  | 91 => 0x3E7363EE#32
  | 92 => 0x3F51B3F3#32
  | 93 => 0xBF54DB31#32
  | 94 => 0xBE5DA259#32
  | 95 => 0x3F7D0543#32
  | 96 => 0xBF000000#32
  | 97 => 0xBF203C85#32
  | 98 => 0x3F7426CB#32
  | 99 => 0xBD85F213#32
  | 100 => 0xBF6803CA#32
  | 101 => 0x3F38ECD8#32
  | 102 => 0x3EC3EF15#32
  | 103 => 0xBF7FF067#32
  | 104 => 0x3EAF1D44#32
  | 105 => 0x3F407893#32
  | 106 => 0xBF631324#32
  | 107 => 0xBDDEF599#32
  | 108 => 0x3F7746EA#32
  | 109 => 0xBF176012#32
  | 110 => 0xBF098C78#32
  | 111 => 0x3F7B14BE#32
  | 112 => 0xBE31D0D4#32
  | 113 => 0xBF5ADB81#32
  | 114 => 0x3F4B1934#32
  | 115 => 0x3E8F45C0#32
  | 116 => 0xBF7F069E#32
  | 117 => 0x3EE273AA#32
  | 118 => 0x3F2CF37B#32
  | 119 => 0xBF6E9811#32
  | 120 => 0xA553C9CA#32
  | 121 => 0x3F6E9811#32
  | 122 => 0xBF2CF37B#32
  | 123 => 0xBEE273AA#32
  | 124 => 0x3F7F069E#32
  | 125 => 0xBE8F45C0#32
  | 126 => 0xBF4B1934#32
  | 127 => 0x3F5ADB81#32
  | _ => 0#32

noncomputable abbrev lit0t0_202 (i : Nat) : BitVec 32 := match i % 128 with
  | 0 => 0x3E31D0D4#32
  | 1 => 0xBF7B14BE#32
  | 2 => 0x3F098C78#32
  | 3 => 0x3F176012#32
  | 4 => 0xBF7746EA#32
  | 5 => 0x3DDEF599#32
  | 6 => 0x3F631324#32
  | 7 => 0xBF407893#32
  | 8 => 0xBEAF1D44#32
  | 9 => 0x3F7FF067#32
  | 10 => 0xBEC3EF15#32
  | 11 => 0xBF38ECD8#32
  | 12 => 0x3F6803CA#32
  | 13 => 0x3D85F213#32
  | 14 => 0xBF7426CB#32
  | 15 => 0x3F203C85#32
  | 16 => 0x3F000000#32
  | 17 => 0xBF7D0543#32
  | 18 => 0x3E5DA259#32
  | 19 => 0x3F54DB31#32
  | 20 => 0xBF51B3F3#32
  | 21 => 0xBE7363EE#32
  | 22 => 0x3F7DCF55#32
  | 23 => 0xBEF64429#32
  | 24 => 0xBF248DBB#32
  | 25 => 0x3F726A03#32
  | 26 => 0xBD32AA3E#32
  | 27 => 0xBF6A51DA#32
  | 28 => 0x3F3504F3#32
  | 29 => 0x3ECE34D0#32
  | 30 => 0xBF7FC1A0#32
  | 31 => 0x3EA493B7#32
  | 32 => 0x3F441B7D#32
  | 33 => 0xBF60712A#32
  | 34 => 0xBE05A8A8#32
  | 35 => 0x3F78A9E0#32
  | 36 => 0xBF12D5E8#32
  | 37 => 0xBF0E39DA#32
  | 38 => 0x3F79EE89#32
  | 39 => 0xBE1BC63C#32
  | 40 => 0xBF5DB3D7#32
  | 41 => 0x3F47A682#32
  | 42 => 0x3E99F61C#32
  | 43 => 0xBF7F73AF#32
  | 44 => 0x3ED8616C#32
  | 45 => 0x3F310700#32
  | 46 => 0xBF6C835E#32
  | 47 => 0xBCB2B521#32
  | 48 => 0x3F708FB2#32
  | 49 => 0xBF28CAE3#32
  | 50 => 0xBEEC6A50#32
  | 51 => 0x3F7E7A7A#32
  | 52 => 0xBE8483EE#32
  | 53 => 0xBF4E7327#32
  | 54 => 0x3F57E880#32
  | 55 => 0x3E47C5C2#32
  | 56 => 0xBF7C1C5C#32
  | 57 => 0x3F04CE53#32
  | 58 => 0x3F1BD7CA#32
  | 59 => 0xBF75C5D4#32
  | 60 => 0x3DB27EB6#32
  | 61 => 0x3F659974#32
  | 62 => 0xBF3CBE35#32
  | 63 => 0xBEB9917B#32
  | 64 => 0x3F800000#32
  | 65 => 0xBEC3EF15#32
  | 66 => 0xBF3504F3#32
  | 67 => 0x3F6C835E#32
  | 68 => 0x248D3132#32
  | 69 => 0xBF6C835E#32
  | 70 => 0x3F3504F3#32
  | 71 => 0x3EC3EF15#32
  | 72 => 0xBF800000#32
  | 73 => 0x3EC3EF15#32
  | 74 => 0x3F3504F3#32
  | 75 => 0xBF6C835E#32
  | 76 => 0xA553C9CA#32
  | 77 => 0x3F6C835E#32
  | 78 => 0xBF3504F3#32
  | 79 => 0xBEC3EF15#32
  | 80 => 0x3F800000#32
  | 81 => 0xBEC3EF15#32
  | 82 => 0xBF3504F3#32
  | 83 => 0x3F6C835E#32
  | 84 => 0x248D3132#32
  | 85 => 0xBF6C835E#32
  | 86 => 0x3F3504F3#32
  | 87 => 0x3EC3EF15#32
  | 88 => 0xBF800000#32
  | 89 => 0x3EC3EF15#32
  | 90 => 0x3F3504F3#32
  | 91 => 0xBF6C835E#32
  | 92 => 0xA553C9CA#32
  | 93 => 0x3F6C835E#32
  | 94 => 0xBF3504F3#32
  | 95 => 0xBEC3EF15#32
  | 96 => 0x3F800000#32
  | 97 => 0xBEC3EF15#32
  | 98 => 0xBF3504F3#32
  | 99 => 0x3F6C835E#32
  | 100 => 0x248D3132#32
  | 101 => 0xBF6C835E#32
  | 102 => 0x3F3504F3#32
  | 103 => 0x3EC3EF15#32
  | 104 => 0xBF800000#32
  | 105 => 0x3EC3EF15#32
  | 106 => 0x3F3504F3#32
  | 107 => 0xBF6C835E#32
  | 108 => 0xA553C9CA#32
  | 109 => 0x3F6C835E#32
  | 110 => 0xBF3504F3#32
  | 111 => 0xBEC3EF15#32
  | 112 => 0x3F800000#32
  | 113 => 0xBEC3EF15#32
  | 114 => 0xBF3504F3#32
  | 115 => 0x3F6C835E#32
  | 116 => 0x248D3132#32
  | 117 => 0xBF6C835E#32
  | 118 => 0x3F3504F3#32
  | 119 => 0x3EC3EF15#32
  | 120 => 0xBF800000#32
  | 121 => 0x3EC3EF15#32
  | 122 => 0x3F3504F3#32
  | 123 => 0xBF6C835E#32
  | 124 => 0xA553C9CA#32
  | 125 => 0x3F6C835E#32
  | 126 => 0xBF3504F3#32
  | 127 => 0xBEC3EF15#32
  | _ => 0#32

noncomputable abbrev lit0t0_203 (i : Nat) : BitVec 32 := match i % 128 with
  | 0 => 0x3F800000#32
  | 1 => 0xBEC3EF15#32
  | 2 => 0xBF3504F3#32
  | 3 => 0x3F6C835E#32
  | 4 => 0x248D3132#32
  | 5 => 0xBF6C835E#32
  | 6 => 0x3F3504F3#32
  | 7 => 0x3EC3EF15#32
  | 8 => 0xBF800000#32
  | 9 => 0x3EC3EF15#32
  | 10 => 0x3F3504F3#32
  | 11 => 0xBF6C835E#32
  | 12 => 0xA553C9CA#32
  | 13 => 0x3F6C835E#32
  | 14 => 0xBF3504F3#32
  | 15 => 0xBEC3EF15#32
  | 16 => 0x3F800000#32
  | 17 => 0xBEC3EF15#32
  | 18 => 0xBF3504F3#32
  | 19 => 0x3F6C835E#32
  | 20 => 0x248D3132#32
  | 21 => 0xBF6C835E#32
  | 22 => 0x3F3504F3#32
  | 23 => 0x3EC3EF15#32
  | 24 => 0xBF800000#32
  | 25 => 0x3EC3EF15#32
  | 26 => 0x3F3504F3#32
  | 27 => 0xBF6C835E#32
  | 28 => 0xA553C9CA#32
  | 29 => 0x3F6C835E#32
  | 30 => 0xBF3504F3#32
  | 31 => 0xBEC3EF15#32
  | 32 => 0x3F800000#32
  | 33 => 0xBEC3EF15#32
  | 34 => 0xBF3504F3#32
  | 35 => 0x3F6C835E#32
  | 36 => 0x248D3132#32
  | 37 => 0xBF6C835E#32
  | 38 => 0x3F3504F3#32
  | 39 => 0x3EC3EF15#32
  | 40 => 0xBF800000#32
  | 41 => 0x3EC3EF15#32
  | 42 => 0x3F3504F3#32
  | 43 => 0xBF6C835E#32
  | 44 => 0xA553C9CA#32
  | 45 => 0x3F6C835E#32
  | 46 => 0xBF3504F3#32
  | 47 => 0xBEC3EF15#32
  | 48 => 0x3F800000#32
  | 49 => 0xBEC3EF15#32
  | 50 => 0xBF3504F3#32
  | 51 => 0x3F6C835E#32
  | 52 => 0x248D3132#32
  | 53 => 0xBF6C835E#32
  | 54 => 0x3F3504F3#32
  | 55 => 0x3EC3EF15#32
  | 56 => 0xBF800000#32
  | 57 => 0x3EC3EF15#32
  | 58 => 0x3F3504F3#32
  | 59 => 0xBF6C835E#32
  | 60 => 0xA553C9CA#32
  | 61 => 0x3F6C835E#32
  | 62 => 0xBF3504F3#32
  | 63 => 0xBEC3EF15#32
  | 64 => 0x3F800000#32
  | 65 => 0xBEC3EF15#32
  | 66 => 0xBF3504F3#32
  | 67 => 0x3F6C835E#32
  | 68 => 0x248D3132#32
  | 69 => 0xBF6C835E#32
  | 70 => 0x3F3504F3#32
  | 71 => 0x3EC3EF15#32
  | 72 => 0xBF800000#32
  | 73 => 0x3EC3EF15#32
  | 74 => 0x3F3504F3#32
  | 75 => 0xBF6C835E#32
  | 76 => 0xA553C9CA#32
  | 77 => 0x3F6C835E#32
  | 78 => 0xBF3504F3#32
  | 79 => 0xBEC3EF15#32
  | 80 => 0x3F800000#32
  | 81 => 0xBEC3EF15#32
  | 82 => 0xBF3504F3#32
  | 83 => 0x3F6C835E#32
  | 84 => 0x248D3132#32
  | 85 => 0xBF6C835E#32
  | 86 => 0x3F3504F3#32
  | 87 => 0x3EC3EF15#32
  | 88 => 0xBF800000#32
  | 89 => 0x3EC3EF15#32
  | 90 => 0x3F3504F3#32
  | 91 => 0xBF6C835E#32
  | 92 => 0xA553C9CA#32
  | 93 => 0x3F6C835E#32
  | 94 => 0xBF3504F3#32
  | 95 => 0xBEC3EF15#32
  | 96 => 0x3F800000#32
  | 97 => 0xBEC3EF15#32
  | 98 => 0xBF3504F3#32
  | 99 => 0x3F6C835E#32
  | 100 => 0x248D3132#32
  | 101 => 0xBF6C835E#32
  | 102 => 0x3F3504F3#32
  | 103 => 0x3EC3EF15#32
  | 104 => 0xBF800000#32
  | 105 => 0x3EC3EF15#32
  | 106 => 0x3F3504F3#32
  | 107 => 0xBF6C835E#32
  | 108 => 0xA553C9CA#32
  | 109 => 0x3F6C835E#32
  | 110 => 0xBF3504F3#32
  | 111 => 0xBEC3EF15#32
  | 112 => 0x3F800000#32
  | 113 => 0xBEC3EF15#32
  | 114 => 0xBF3504F3#32
  | 115 => 0x3F6C835E#32
  | 116 => 0x248D3132#32
  | 117 => 0xBF6C835E#32
  | 118 => 0x3F3504F3#32
  | 119 => 0x3EC3EF15#32
  | 120 => 0xBF800000#32
  | 121 => 0x3EC3EF15#32
  | 122 => 0x3F3504F3#32
  | 123 => 0xBF6C835E#32
  | 124 => 0xA553C9CA#32
  | 125 => 0x3F6C835E#32
  | 126 => 0xBF3504F3#32
  | 127 => 0xBEC3EF15#32
  | _ => 0#32

noncomputable abbrev lit0t0_204 (i : Nat) : BitVec 32 := match i % 128 with
  | 0 => 0x3F800000#32
  | 1 => 0xBEC3EF15#32
  | 2 => 0xBF3504F3#32
  | 3 => 0x3F6C835E#32
  | 4 => 0x248D3132#32
  | 5 => 0xBF6C835E#32
  | 6 => 0x3F3504F3#32
  | 7 => 0x3EC3EF15#32
  | 8 => 0xBF800000#32
  | 9 => 0x3EC3EF15#32
  | 10 => 0x3F3504F3#32
  | 11 => 0xBF6C835E#32
  | 12 => 0xA553C9CA#32
  | 13 => 0x3F6C835E#32
  | 14 => 0xBF3504F3#32
  | 15 => 0xBEC3EF15#32
  | 16 => 0x3F800000#32
  | 17 => 0xBEC3EF15#32
  | 18 => 0xBF3504F3#32
  | 19 => 0x3F6C835E#32
  | 20 => 0x248D3132#32
  | 21 => 0xBF6C835E#32
  | 22 => 0x3F3504F3#32
  | 23 => 0x3EC3EF15#32
  | 24 => 0xBF800000#32
  | 25 => 0x3EC3EF15#32
  | 26 => 0x3F3504F3#32
  | 27 => 0xBF6C835E#32
  | 28 => 0xA553C9CA#32
  | 29 => 0x3F6C835E#32
  | 30 => 0xBF3504F3#32
  | 31 => 0xBEC3EF15#32
  | 32 => 0x3F800000#32
  | 33 => 0xBEC3EF15#32
  | 34 => 0xBF3504F3#32
  | 35 => 0x3F6C835E#32
  | 36 => 0x248D3132#32
  | 37 => 0xBF6C835E#32
  | 38 => 0x3F3504F3#32
  | 39 => 0x3EC3EF15#32
  | 40 => 0xBF800000#32
  | 41 => 0x3EC3EF15#32
  | 42 => 0x3F3504F3#32
  | 43 => 0xBF6C835E#32
  | 44 => 0xA553C9CA#32
  | 45 => 0x3F6C835E#32
  | 46 => 0xBF3504F3#32
  | 47 => 0xBEC3EF15#32
  | 48 => 0x3F800000#32
  | 49 => 0xBEC3EF15#32
  | 50 => 0xBF3504F3#32
  | 51 => 0x3F6C835E#32
  | 52 => 0x248D3132#32
  | 53 => 0xBF6C835E#32
  | 54 => 0x3F3504F3#32
  | 55 => 0x3EC3EF15#32
  | 56 => 0xBF800000#32
  | 57 => 0x3EC3EF15#32
  | 58 => 0x3F3504F3#32
  | 59 => 0xBF6C835E#32
  | 60 => 0xA553C9CA#32
  | 61 => 0x3F6C835E#32
  | 62 => 0xBF3504F3#32
  | 63 => 0xBEC3EF15#32
  | 64 => 0x3F800000#32
  | 65 => 0xBEC3EF15#32
  | 66 => 0xBF3504F3#32
  | 67 => 0x3F6C835E#32
  | 68 => 0x248D3132#32
  | 69 => 0xBF6C835E#32
  | 70 => 0x3F3504F3#32
  | 71 => 0x3EC3EF15#32
  | 72 => 0xBF800000#32
  | 73 => 0x3EC3EF15#32
  | 74 => 0x3F3504F3#32
  | 75 => 0xBF6C835E#32
  | 76 => 0xA553C9CA#32
  | 77 => 0x3F6C835E#32
  | 78 => 0xBF3504F3#32
  | 79 => 0xBEC3EF15#32
  | 80 => 0x3F800000#32
  | 81 => 0xBEC3EF15#32
  | 82 => 0xBF3504F3#32
  | 83 => 0x3F6C835E#32
  | 84 => 0x248D3132#32
  | 85 => 0xBF6C835E#32
  | 86 => 0x3F3504F3#32
  | 87 => 0x3EC3EF15#32
  | 88 => 0xBF800000#32
  | 89 => 0x3EC3EF15#32
  | 90 => 0x3F3504F3#32
  | 91 => 0xBF6C835E#32
  | 92 => 0xA553C9CA#32
  | 93 => 0x3F6C835E#32
  | 94 => 0xBF3504F3#32
  | 95 => 0xBEC3EF15#32
  | 96 => 0x3F800000#32
  | 97 => 0xBECE34D0#32
  | 98 => 0xBF2CF37B#32
  | 99 => 0x3F726A03#32
  | 100 => 0xBDB27EB6#32
  | 101 => 0xBF60712A#32
  | 102 => 0x3F4B1934#32
  | 103 => 0x3E7363EE#32
  | 104 => 0xBF7C1C5C#32
  | 105 => 0x3F0E39DA#32
  | 106 => 0x3F098C78#32
  | 107 => 0xBF7D0543#32
  | 108 => 0x3E8483EE#32
  | 109 => 0x3F47A682#32
  | 110 => 0xBF631324#32
  | 111 => 0xBD85F213#32
  | 112 => 0x3F708FB2#32
  | 113 => 0xBF310700#32
  | 114 => 0xBEC3EF15#32
  | 115 => 0x3F7FF067#32
  | 116 => 0xBED8616C#32
  | 117 => 0xBF28CAE3#32
  | 118 => 0x3F7426CB#32
  | 119 => 0xBDDEF599#32
  | 120 => 0xBF5DB3D7#32
  | 121 => 0x3F4E7327#32
  | 122 => 0x3E5DA259#32
  | 123 => 0xBF7B14BE#32
  | 124 => 0x3F12D5E8#32
  | 125 => 0x3F04CE53#32
  | 126 => 0xBF7DCF55#32
  | 127 => 0x3E8F45C0#32
  | _ => 0#32

noncomputable abbrev lit0t0_205 (i : Nat) : BitVec 32 := match i % 128 with
  | 0 => 0x3F441B7D#32
  | 1 => 0xBF659974#32
  | 2 => 0xBD32AA3E#32
  | 3 => 0x3F6E9811#32
  | 4 => 0xBF3504F3#32
  | 5 => 0xBEB9917B#32
  | 6 => 0x3F7FC1A0#32
  | 7 => 0xBEE273AA#32
  | 8 => 0xBF248DBB#32
  | 9 => 0x3F75C5D4#32
  | 10 => 0xBE05A8A8#32
  | 11 => 0xBF5ADB81#32
  | 12 => 0x3F51B3F3#32
  | 13 => 0x3E47C5C2#32
  | 14 => 0xBF79EE89#32
  | 15 => 0x3F176012#32
  | 16 => 0x3F000000#32
  | 17 => 0xBF7E7A7A#32
  | 18 => 0x3E99F61C#32
  | 19 => 0x3F407893#32
  | 20 => 0xBF6803CA#32
  | 21 => 0xBCB2B521#32
  | 22 => 0x3F6C835E#32
  | 23 => 0xBF38ECD8#32
  | 24 => 0xBEAF1D44#32
  | 25 => 0x3F7F73AF#32
  | 26 => 0xBEEC6A50#32
  | 27 => 0xBF203C85#32
  | 28 => 0x3F7746EA#32
  | 29 => 0xBE1BC63C#32
  | 30 => 0xBF57E880#32
  | 31 => 0x3F54DB31#32
  | 32 => 0x3E31D0D4#32
  | 33 => 0xBF78A9E0#32
  | 34 => 0x3F1BD7CA#32
  | 35 => 0x3EF64429#32
  | 36 => 0xBF7F069E#32
  | 37 => 0x3EA493B7#32
  | 38 => 0x3F3CBE35#32
  | 39 => 0xBF6A51DA#32
  | 40 => 0xA553C9CA#32
  | 41 => 0x3F6A51DA#32
  | 42 => 0xBF3CBE35#32
  | 43 => 0xBEA493B7#32
  | 44 => 0x3F7F069E#32
  | 45 => 0xBEF64429#32
  | 46 => 0xBF1BD7CA#32
  | 47 => 0x3F78A9E0#32
  | 48 => 0xBE31D0D4#32
  | 49 => 0xBF54DB31#32
  | 50 => 0x3F57E880#32
  | 51 => 0x3E1BC63C#32
  | 52 => 0xBF7746EA#32
  | 53 => 0x3F203C85#32
  | 54 => 0x3EEC6A50#32
  | 55 => 0xBF7F73AF#32
  | 56 => 0x3EAF1D44#32
  | 57 => 0x3F38ECD8#32
  | 58 => 0xBF6C835E#32
  | 59 => 0x3CB2B521#32
  | 60 => 0x3F6803CA#32
  | 61 => 0xBF407893#32
  | 62 => 0xBE99F61C#32
  | 63 => 0x3F7E7A7A#32
  | 64 => 0xBF000000#32
  | 65 => 0xBF176012#32
  | 66 => 0x3F79EE89#32
  | 67 => 0xBE47C5C2#32
  | 68 => 0xBF51B3F3#32
  | 69 => 0x3F5ADB81#32
  | 70 => 0x3E05A8A8#32
  | 71 => 0xBF75C5D4#32
  | 72 => 0x3F248DBB#32
  | 73 => 0x3EE273AA#32
  | 74 => 0xBF7FC1A0#32
  | 75 => 0x3EB9917B#32
  | 76 => 0x3F3504F3#32
  | 77 => 0xBF6E9811#32
  | 78 => 0x3D32AA3E#32
  | 79 => 0x3F659974#32
  | 80 => 0xBF441B7D#32
  | 81 => 0xBE8F45C0#32
  | 82 => 0x3F7DCF55#32
  | 83 => 0xBF04CE53#32
  | 84 => 0xBF12D5E8#32
  | 85 => 0x3F7B14BE#32
  | 86 => 0xBE5DA259#32
  | 87 => 0xBF4E7327#32
  | 88 => 0x3F5DB3D7#32
  | 89 => 0x3DDEF599#32
  | 90 => 0xBF7426CB#32
  | 91 => 0x3F28CAE3#32
  | 92 => 0x3ED8616C#32
  | 93 => 0xBF7FF067#32
  | 94 => 0x3EC3EF15#32
  | 95 => 0x3F310700#32
  | 96 => 0xBF708FB2#32
  | 97 => 0x3D85F213#32
  | 98 => 0x3F631324#32
  | 99 => 0xBF47A682#32
  | 100 => 0xBE8483EE#32
  | 101 => 0x3F7D0543#32
  | 102 => 0xBF098C78#32
  | 103 => 0xBF0E39DA#32
  | 104 => 0x3F7C1C5C#32
  | 105 => 0xBE7363EE#32
  | 106 => 0xBF4B1934#32
  | 107 => 0x3F60712A#32
  | 108 => 0x3DB27EB6#32
  | 109 => 0xBF726A03#32
  | 110 => 0x3F2CF37B#32
  | 111 => 0x3ECE34D0#32
  | 112 => 0xBF800000#32
  | 113 => 0x3ECE34D0#32
  | 114 => 0x3F2CF37B#32
  | 115 => 0xBF726A03#32
  | 116 => 0x3DB27EB6#32
  | 117 => 0x3F60712A#32
  | 118 => 0xBF4B1934#32
  | 119 => 0xBE7363EE#32
  | 120 => 0x3F7C1C5C#32
  | 121 => 0xBF0E39DA#32
  | 122 => 0xBF098C78#32
  | 123 => 0x3F7D0543#32
  | 124 => 0xBE8483EE#32
  | 125 => 0xBF47A682#32
  | 126 => 0x3F631324#32
  | 127 => 0x3D85F213#32
  | _ => 0#32

noncomputable abbrev lit0t0_206 (i : Nat) : BitVec 32 := match i % 128 with
  | 0 => 0xBF708FB2#32
  | 1 => 0x3F310700#32
  | 2 => 0x3EC3EF15#32
  | 3 => 0xBF7FF067#32
  | 4 => 0x3ED8616C#32
  | 5 => 0x3F28CAE3#32
  | 6 => 0xBF7426CB#32
  | 7 => 0x3DDEF599#32
  | 8 => 0x3F5DB3D7#32
  | 9 => 0xBF4E7327#32
  | 10 => 0xBE5DA259#32
  | 11 => 0x3F7B14BE#32
  | 12 => 0xBF12D5E8#32
  | 13 => 0xBF04CE53#32
  | 14 => 0x3F7DCF55#32
  | 15 => 0xBE8F45C0#32
  | 16 => 0xBF441B7D#32
  | 17 => 0x3F659974#32
  | 18 => 0x3D32AA3E#32
  | 19 => 0xBF6E9811#32
  | 20 => 0x3F3504F3#32
  | 21 => 0x3EB9917B#32
  | 22 => 0xBF7FC1A0#32
  | 23 => 0x3EE273AA#32
  | 24 => 0x3F248DBB#32
  | 25 => 0xBF75C5D4#32
  | 26 => 0x3E05A8A8#32
  | 27 => 0x3F5ADB81#32
  | 28 => 0xBF51B3F3#32
  | 29 => 0xBE47C5C2#32
  | 30 => 0x3F79EE89#32
  | 31 => 0xBF176012#32
  | 32 => 0xBF000000#32
  | 33 => 0x3F7E7A7A#32
  | 34 => 0xBE99F61C#32
  | 35 => 0xBF407893#32
  | 36 => 0x3F6803CA#32
  | 37 => 0x3CB2B521#32
  | 38 => 0xBF6C835E#32
  | 39 => 0x3F38ECD8#32
  | 40 => 0x3EAF1D44#32
  | 41 => 0xBF7F73AF#32
  | 42 => 0x3EEC6A50#32
  | 43 => 0x3F203C85#32
  | 44 => 0xBF7746EA#32
  | 45 => 0x3E1BC63C#32
  | 46 => 0x3F57E880#32
  | 47 => 0xBF54DB31#32
  | 48 => 0xBE31D0D4#32
  | 49 => 0x3F78A9E0#32
  | 50 => 0xBF1BD7CA#32
  | 51 => 0xBEF64429#32
  | 52 => 0x3F7F069E#32
  | 53 => 0xBEA493B7#32
  | 54 => 0xBF3CBE35#32
  | 55 => 0x3F6A51DA#32
  | 56 => 0x248D3132#32
  | 57 => 0xBF6A51DA#32
  | 58 => 0x3F3CBE35#32
  | 59 => 0x3EA493B7#32
  | 60 => 0xBF7F069E#32
  | 61 => 0x3EF64429#32
  | 62 => 0x3F1BD7CA#32
  | 63 => 0xBF78A9E0#32
  | 64 => 0x3E31D0D4#32
  | 65 => 0x3F54DB31#32
  | 66 => 0xBF57E880#32
  | 67 => 0xBE1BC63C#32
  | 68 => 0x3F7746EA#32
  | 69 => 0xBF203C85#32
  | 70 => 0xBEEC6A50#32
  | 71 => 0x3F7F73AF#32
  | 72 => 0xBEAF1D44#32
  | 73 => 0xBF38ECD8#32
  | 74 => 0x3F6C835E#32
  | 75 => 0xBCB2B521#32
  | 76 => 0xBF6803CA#32
  | 77 => 0x3F407893#32
  | 78 => 0x3E99F61C#32
  | 79 => 0xBF7E7A7A#32
  | 80 => 0x3F000000#32
  | 81 => 0x3F176012#32
  | 82 => 0xBF79EE89#32
  | 83 => 0x3E47C5C2#32
  | 84 => 0x3F51B3F3#32
  | 85 => 0xBF5ADB81#32
  | 86 => 0xBE05A8A8#32
  | 87 => 0x3F75C5D4#32
  | 88 => 0xBF248DBB#32
  | 89 => 0xBEE273AA#32
  | 90 => 0x3F7FC1A0#32
  | 91 => 0xBEB9917B#32
  | 92 => 0xBF3504F3#32
  | 93 => 0x3F6E9811#32
  | 94 => 0xBD32AA3E#32
  | 95 => 0xBF659974#32
  | 96 => 0x3F441B7D#32
  | 97 => 0x3E8F45C0#32
  | 98 => 0xBF7DCF55#32
  | 99 => 0x3F04CE53#32
  | 100 => 0x3F12D5E8#32
  | 101 => 0xBF7B14BE#32
  | 102 => 0x3E5DA259#32
  | 103 => 0x3F4E7327#32
  | 104 => 0xBF5DB3D7#32
  | 105 => 0xBDDEF599#32
  | 106 => 0x3F7426CB#32
  | 107 => 0xBF28CAE3#32
  | 108 => 0xBED8616C#32
  | 109 => 0x3F7FF067#32
  | 110 => 0xBEC3EF15#32
  | 111 => 0xBF310700#32
  | 112 => 0x3F708FB2#32
  | 113 => 0xBD85F213#32
  | 114 => 0xBF631324#32
  | 115 => 0x3F47A682#32
  | 116 => 0x3E8483EE#32
  | 117 => 0xBF7D0543#32
  | 118 => 0x3F098C78#32
  | 119 => 0x3F0E39DA#32
  | 120 => 0xBF7C1C5C#32
  | 121 => 0x3E7363EE#32
  | 122 => 0x3F4B1934#32
  | 123 => 0xBF60712A#32
  | 124 => 0xBDB27EB6#32
  | 125 => 0x3F726A03#32
  | 126 => 0xBF2CF37B#32
  | 127 => 0xBECE34D0#32
  | _ => 0#32

noncomputable abbrev lit0t0_207 (i : Nat) : BitVec 32 := match i % 128 with
  | 0 => 0x3F800000#32
  | 1 => 0xBED8616C#32
  | 2 => 0xBF248DBB#32
  | 3 => 0x3F7746EA#32
  | 4 => 0xBE31D0D4#32
  | 5 => 0xBF51B3F3#32
  | 6 => 0x3F5DB3D7#32
  | 7 => 0x3DB27EB6#32
  | 8 => 0xBF708FB2#32
  | 9 => 0x3F3504F3#32
  | 10 => 0x3EAF1D44#32
  | 11 => 0xBF7F069E#32
  | 12 => 0x3F000000#32
  | 13 => 0x3F12D5E8#32
  | 14 => 0xBF7C1C5C#32
  | 15 => 0x3E8483EE#32
  | 16 => 0x3F441B7D#32
  | 17 => 0xBF6803CA#32
  | 18 => 0xA553C9CA#32
  | 19 => 0x3F6803CA#32
  | 20 => 0xBF441B7D#32
  | 21 => 0xBE8483EE#32
  | 22 => 0x3F7C1C5C#32
  | 23 => 0xBF12D5E8#32
  | 24 => 0xBF000000#32
  | 25 => 0x3F7F069E#32
  | 26 => 0xBEAF1D44#32
  | 27 => 0xBF3504F3#32
  | 28 => 0x3F708FB2#32
  | 29 => 0xBDB27EB6#32
  | 30 => 0xBF5DB3D7#32
  | 31 => 0x3F51B3F3#32
  | 32 => 0x3E31D0D4#32
  | 33 => 0xBF7746EA#32
  | 34 => 0x3F248DBB#32
  | 35 => 0x3ED8616C#32
  | 36 => 0xBF800000#32
  | 37 => 0x3ED8616C#32
  | 38 => 0x3F248DBB#32
  | 39 => 0xBF7746EA#32
  | 40 => 0x3E31D0D4#32
  | 41 => 0x3F51B3F3#32
  | 42 => 0xBF5DB3D7#32
  | 43 => 0xBDB27EB6#32
  | 44 => 0x3F708FB2#32
  | 45 => 0xBF3504F3#32
  | 46 => 0xBEAF1D44#32
  | 47 => 0x3F7F069E#32
  | 48 => 0xBF000000#32
  | 49 => 0xBF12D5E8#32
  | 50 => 0x3F7C1C5C#32
  | 51 => 0xBE8483EE#32
  | 52 => 0xBF441B7D#32
  | 53 => 0x3F6803CA#32
  | 54 => 0x248D3132#32
  | 55 => 0xBF6803CA#32
  | 56 => 0x3F441B7D#32
  | 57 => 0x3E8483EE#32
  | 58 => 0xBF7C1C5C#32
  | 59 => 0x3F12D5E8#32
  | 60 => 0x3F000000#32
  | 61 => 0xBF7F069E#32
  | 62 => 0x3EAF1D44#32
  | 63 => 0x3F3504F3#32
  | 64 => 0xBF708FB2#32
  | 65 => 0x3DB27EB6#32
  | 66 => 0x3F5DB3D7#32
  | 67 => 0xBF51B3F3#32
  | 68 => 0xBE31D0D4#32
  | 69 => 0x3F7746EA#32
  | 70 => 0xBF248DBB#32
  | 71 => 0xBED8616C#32
  | 72 => 0x3F800000#32
  | 73 => 0xBED8616C#32
  | 74 => 0xBF248DBB#32
  | 75 => 0x3F7746EA#32
  | 76 => 0xBE31D0D4#32
  | 77 => 0xBF51B3F3#32
  | 78 => 0x3F5DB3D7#32
  | 79 => 0x3DB27EB6#32
  | 80 => 0xBF708FB2#32
  | 81 => 0x3F3504F3#32
  | 82 => 0x3EAF1D44#32
  | 83 => 0xBF7F069E#32
  | 84 => 0x3F000000#32
  | 85 => 0x3F12D5E8#32
  | 86 => 0xBF7C1C5C#32
  | 87 => 0x3E8483EE#32
  | 88 => 0x3F441B7D#32
  | 89 => 0xBF6803CA#32
  | 90 => 0xA553C9CA#32
  | 91 => 0x3F6803CA#32
  | 92 => 0xBF441B7D#32
  | 93 => 0xBE8483EE#32
  | 94 => 0x3F7C1C5C#32
  | 95 => 0xBF12D5E8#32
  | 96 => 0xBF000000#32
  | 97 => 0x3F7F069E#32
  | 98 => 0xBEAF1D44#32
  | 99 => 0xBF3504F3#32
  | 100 => 0x3F708FB2#32
  | 101 => 0xBDB27EB6#32
  | 102 => 0xBF5DB3D7#32
  | 103 => 0x3F51B3F3#32
  | 104 => 0x3E31D0D4#32
  | 105 => 0xBF7746EA#32
  | 106 => 0x3F248DBB#32
  | 107 => 0x3ED8616C#32
  | 108 => 0xBF800000#32
  | 109 => 0x3ED8616C#32
  | 110 => 0x3F248DBB#32
  | 111 => 0xBF7746EA#32
  | 112 => 0x3E31D0D4#32
  | 113 => 0x3F51B3F3#32
  | 114 => 0xBF5DB3D7#32
  | 115 => 0xBDB27EB6#32
  | 116 => 0x3F708FB2#32
  | 117 => 0xBF3504F3#32
  | 118 => 0xBEAF1D44#32
  | 119 => 0x3F7F069E#32
  | 120 => 0xBF000000#32
  | 121 => 0xBF12D5E8#32
  | 122 => 0x3F7C1C5C#32
  | 123 => 0xBE8483EE#32
  | 124 => 0xBF441B7D#32
  | 125 => 0x3F6803CA#32
  | 126 => 0x248D3132#32
  | 127 => 0xBF6803CA#32
  | _ => 0#32

noncomputable abbrev lit0t0_208 (i : Nat) : BitVec 32 := match i % 128 with
  | 0 => 0x3F441B7D#32
  | 1 => 0x3E8483EE#32
  | 2 => 0xBF7C1C5C#32
  | 3 => 0x3F12D5E8#32
  | 4 => 0x3F000000#32
  | 5 => 0xBF7F069E#32
  | 6 => 0x3EAF1D44#32
  | 7 => 0x3F3504F3#32
  | 8 => 0xBF708FB2#32
  | 9 => 0x3DB27EB6#32
  | 10 => 0x3F5DB3D7#32
  | 11 => 0xBF51B3F3#32
  | 12 => 0xBE31D0D4#32
  | 13 => 0x3F7746EA#32
  | 14 => 0xBF248DBB#32
  | 15 => 0xBED8616C#32
  | 16 => 0x3F800000#32
  | 17 => 0xBED8616C#32
  | 18 => 0xBF248DBB#32
  | 19 => 0x3F7746EA#32
  | 20 => 0xBE31D0D4#32
  | 21 => 0xBF51B3F3#32
  | 22 => 0x3F5DB3D7#32
  | 23 => 0x3DB27EB6#32
  | 24 => 0xBF708FB2#32
  | 25 => 0x3F3504F3#32
  | 26 => 0x3EAF1D44#32
  | 27 => 0xBF7F069E#32
  | 28 => 0x3F000000#32
  | 29 => 0x3F12D5E8#32
  | 30 => 0xBF7C1C5C#32
  | 31 => 0x3E8483EE#32
  | 32 => 0x3F441B7D#32
  | 33 => 0xBF6803CA#32
  | 34 => 0xA553C9CA#32
  | 35 => 0x3F6803CA#32
  | 36 => 0xBF441B7D#32
  | 37 => 0xBE8483EE#32
  | 38 => 0x3F7C1C5C#32
  | 39 => 0xBF12D5E8#32
  | 40 => 0xBF000000#32
  | 41 => 0x3F7F069E#32
  | 42 => 0xBEAF1D44#32
  | 43 => 0xBF3504F3#32
  | 44 => 0x3F708FB2#32
  | 45 => 0xBDB27EB6#32
  | 46 => 0xBF5DB3D7#32
  | 47 => 0x3F51B3F3#32
  | 48 => 0x3E31D0D4#32
  | 49 => 0xBF7746EA#32
  | 50 => 0x3F248DBB#32
  | 51 => 0x3ED8616C#32
  | 52 => 0xBF800000#32
  | 53 => 0x3ED8616C#32
  | 54 => 0x3F248DBB#32
  | 55 => 0xBF7746EA#32
  | 56 => 0x3E31D0D4#32
  | 57 => 0x3F51B3F3#32
  | 58 => 0xBF5DB3D7#32
  | 59 => 0xBDB27EB6#32
  | 60 => 0x3F708FB2#32
  | 61 => 0xBF3504F3#32
  | 62 => 0xBEAF1D44#32
  | 63 => 0x3F7F069E#32
  | 64 => 0xBF000000#32
  | 65 => 0xBF12D5E8#32
  | 66 => 0x3F7C1C5C#32
  | 67 => 0xBE8483EE#32
  | 68 => 0xBF441B7D#32
  | 69 => 0x3F6803CA#32
  | 70 => 0x248D3132#32
  | 71 => 0xBF6803CA#32
  | 72 => 0x3F441B7D#32
  | 73 => 0x3E8483EE#32
  | 74 => 0xBF7C1C5C#32
  | 75 => 0x3F12D5E8#32
  | 76 => 0x3F000000#32
  | 77 => 0xBF7F069E#32
  | 78 => 0x3EAF1D44#32
  | 79 => 0x3F3504F3#32
  | 80 => 0xBF708FB2#32
  | 81 => 0x3DB27EB6#32
  | 82 => 0x3F5DB3D7#32
  | 83 => 0xBF51B3F3#32
  | 84 => 0xBE31D0D4#32
  | 85 => 0x3F7746EA#32
  | 86 => 0xBF248DBB#32
  | 87 => 0xBED8616C#32
  | 88 => 0x3F800000#32
  | 89 => 0xBED8616C#32
  | 90 => 0xBF248DBB#32
  | 91 => 0x3F7746EA#32
  | 92 => 0xBE31D0D4#32
  | 93 => 0xBF51B3F3#32
  | 94 => 0x3F5DB3D7#32
  | 95 => 0x3DB27EB6#32
  | 96 => 0xBF708FB2#32
  | 97 => 0x3F3504F3#32
  | 98 => 0x3EAF1D44#32
  | 99 => 0xBF7F069E#32
  | 100 => 0x3F000000#32
  | 101 => 0x3F12D5E8#32
  | 102 => 0xBF7C1C5C#32
  | 103 => 0x3E8483EE#32
  | 104 => 0x3F441B7D#32
  | 105 => 0xBF6803CA#32
  | 106 => 0xA553C9CA#32
  | 107 => 0x3F6803CA#32
  | 108 => 0xBF441B7D#32
  | 109 => 0xBE8483EE#32
  | 110 => 0x3F7C1C5C#32
  | 111 => 0xBF12D5E8#32
  | 112 => 0xBF000000#32
  | 113 => 0x3F7F069E#32
  | 114 => 0xBEAF1D44#32
  | 115 => 0xBF3504F3#32
  | 116 => 0x3F708FB2#32
  | 117 => 0xBDB27EB6#32
  | 118 => 0xBF5DB3D7#32
  | 119 => 0x3F51B3F3#32
  | 120 => 0x3E31D0D4#32
  | 121 => 0xBF7746EA#32
  | 122 => 0x3F248DBB#32
  | 123 => 0x3ED8616C#32
  | 124 => 0xBF800000#32
  | 125 => 0x3ED8616C#32
  | 126 => 0x3F248DBB#32
  | 127 => 0xBF7746EA#32
  | _ => 0#32

noncomputable abbrev lit0t0_209 (i : Nat) : BitVec 32 := match i % 128 with
  | 0 => 0x3E31D0D4#32
  | 1 => 0x3F51B3F3#32
  | 2 => 0xBF5DB3D7#32
  | 3 => 0xBDB27EB6#32
  | 4 => 0x3F708FB2#32
  | 5 => 0xBF3504F3#32
  | 6 => 0xBEAF1D44#32
  | 7 => 0x3F7F069E#32
  | 8 => 0xBF000000#32
  | 9 => 0xBF12D5E8#32
  | 10 => 0x3F7C1C5C#32
  | 11 => 0xBE8483EE#32
  | 12 => 0xBF441B7D#32
  | 13 => 0x3F6803CA#32
  | 14 => 0x248D3132#32
  | 15 => 0xBF6803CA#32
  | 16 => 0x3F441B7D#32
  | 17 => 0x3E8483EE#32
  | 18 => 0xBF7C1C5C#32
  | 19 => 0x3F12D5E8#32
  | 20 => 0x3F000000#32
  | 21 => 0xBF7F069E#32
  | 22 => 0x3EAF1D44#32
  | 23 => 0x3F3504F3#32
  | 24 => 0xBF708FB2#32
  | 25 => 0x3DB27EB6#32
  | 26 => 0x3F5DB3D7#32
  | 27 => 0xBF51B3F3#32
  | 28 => 0xBE31D0D4#32
  | 29 => 0x3F7746EA#32
  | 30 => 0xBF248DBB#32
  | 31 => 0xBED8616C#32
  | 32 => 0x3F800000#32
  | 33 => 0xBEE273AA#32
  | 34 => 0xBF1BD7CA#32
  | 35 => 0x3F7B14BE#32
  | 36 => 0xBE8483EE#32
  | 37 => 0xBF407893#32
  | 38 => 0x3F6C835E#32
  | 39 => 0xBD85F213#32
  | 40 => 0xBF5DB3D7#32
  | 41 => 0x3F54DB31#32
  | 42 => 0x3E05A8A8#32
  | 43 => 0xBF726A03#32
  | 44 => 0x3F3504F3#32
  | 45 => 0x3EA493B7#32
  | 46 => 0xBF7DCF55#32
  | 47 => 0x3F0E39DA#32
  | 48 => 0x3F000000#32
  | 49 => 0xBF7F73AF#32
  | 50 => 0x3EC3EF15#32
  | 51 => 0x3F28CAE3#32
  | 52 => 0xBF7746EA#32
  | 53 => 0x3E47C5C2#32
  | 54 => 0x3F4B1934#32
  | 55 => 0xBF659974#32
  | 56 => 0xA553C9CA#32
  | 57 => 0x3F659974#32
  | 58 => 0xBF4B1934#32
  | 59 => 0xBE47C5C2#32
  | 60 => 0x3F7746EA#32
  | 61 => 0xBF28CAE3#32
  | 62 => 0xBEC3EF15#32
  | 63 => 0x3F7F73AF#32
  | 64 => 0xBF000000#32
  | 65 => 0xBF0E39DA#32
  | 66 => 0x3F7DCF55#32
  | 67 => 0xBEA493B7#32
  | 68 => 0xBF3504F3#32
  | 69 => 0x3F726A03#32
  | 70 => 0xBE05A8A8#32
  | 71 => 0xBF54DB31#32
  | 72 => 0x3F5DB3D7#32
  | 73 => 0x3D85F213#32
  | 74 => 0xBF6C835E#32
  | 75 => 0x3F407893#32
  | 76 => 0x3E8483EE#32
  | 77 => 0xBF7B14BE#32
  | 78 => 0x3F1BD7CA#32
  | 79 => 0x3EE273AA#32
  | 80 => 0xBF800000#32
  | 81 => 0x3EE273AA#32
  | 82 => 0x3F1BD7CA#32
  | 83 => 0xBF7B14BE#32
  | 84 => 0x3E8483EE#32
  | 85 => 0x3F407893#32
  | 86 => 0xBF6C835E#32
  | 87 => 0x3D85F213#32
  | 88 => 0x3F5DB3D7#32
  | 89 => 0xBF54DB31#32
  | 90 => 0xBE05A8A8#32
  | 91 => 0x3F726A03#32
  | 92 => 0xBF3504F3#32
  | 93 => 0xBEA493B7#32
  | 94 => 0x3F7DCF55#32
  | 95 => 0xBF0E39DA#32
  | 96 => 0xBF000000#32
  | 97 => 0x3F7F73AF#32
  | 98 => 0xBEC3EF15#32
  | 99 => 0xBF28CAE3#32
  | 100 => 0x3F7746EA#32
  | 101 => 0xBE47C5C2#32
  | 102 => 0xBF4B1934#32
  | 103 => 0x3F659974#32
  | 104 => 0x248D3132#32
  | 105 => 0xBF659974#32
  | 106 => 0x3F4B1934#32
  | 107 => 0x3E47C5C2#32
  | 108 => 0xBF7746EA#32
  | 109 => 0x3F28CAE3#32
  | 110 => 0x3EC3EF15#32
  | 111 => 0xBF7F73AF#32
  | 112 => 0x3F000000#32
  | 113 => 0x3F0E39DA#32
  | 114 => 0xBF7DCF55#32
  | 115 => 0x3EA493B7#32
  | 116 => 0x3F3504F3#32
  | 117 => 0xBF726A03#32
  | 118 => 0x3E05A8A8#32
  | 119 => 0x3F54DB31#32
  | 120 => 0xBF5DB3D7#32
  | 121 => 0xBD85F213#32
  | 122 => 0x3F6C835E#32
  | 123 => 0xBF407893#32
  | 124 => 0xBE8483EE#32
  | 125 => 0x3F7B14BE#32
  | 126 => 0xBF1BD7CA#32
  | 127 => 0xBEE273AA#32
  | _ => 0#32

noncomputable abbrev lit0t0_210 (i : Nat) : BitVec 32 := match i % 128 with
  | 0 => 0x3F800000#32
  | 1 => 0xBEE273AA#32
  | 2 => 0xBF1BD7CA#32
  | 3 => 0x3F7B14BE#32
  | 4 => 0xBE8483EE#32
  | 5 => 0xBF407893#32
  | 6 => 0x3F6C835E#32
  | 7 => 0xBD85F213#32
  | 8 => 0xBF5DB3D7#32
  | 9 => 0x3F54DB31#32
  | 10 => 0x3E05A8A8#32
  | 11 => 0xBF726A03#32
  | 12 => 0x3F3504F3#32
  | 13 => 0x3EA493B7#32
  | 14 => 0xBF7DCF55#32
  | 15 => 0x3F0E39DA#32
  | 16 => 0x3F000000#32
  | 17 => 0xBF7F73AF#32
  | 18 => 0x3EC3EF15#32
  | 19 => 0x3F28CAE3#32
  | 20 => 0xBF7746EA#32
  | 21 => 0x3E47C5C2#32
  | 22 => 0x3F4B1934#32
  | 23 => 0xBF659974#32
  | 24 => 0xA553C9CA#32
  | 25 => 0x3F659974#32
  | 26 => 0xBF4B1934#32
  | 27 => 0xBE47C5C2#32
  | 28 => 0x3F7746EA#32
  | 29 => 0xBF28CAE3#32
  | 30 => 0xBEC3EF15#32
  | 31 => 0x3F7F73AF#32
  | 32 => 0xBF000000#32
  | 33 => 0xBF0E39DA#32
  | 34 => 0x3F7DCF55#32
  | 35 => 0xBEA493B7#32
  | 36 => 0xBF3504F3#32
  | 37 => 0x3F726A03#32
  | 38 => 0xBE05A8A8#32
  | 39 => 0xBF54DB31#32
  | 40 => 0x3F5DB3D7#32
  | 41 => 0x3D85F213#32
  | 42 => 0xBF6C835E#32
  | 43 => 0x3F407893#32
  | 44 => 0x3E8483EE#32
  | 45 => 0xBF7B14BE#32
  | 46 => 0x3F1BD7CA#32
  | 47 => 0x3EE273AA#32
  | 48 => 0xBF800000#32
  | 49 => 0x3EE273AA#32
  | 50 => 0x3F1BD7CA#32
  | 51 => 0xBF7B14BE#32
  | 52 => 0x3E8483EE#32
  | 53 => 0x3F407893#32
  | 54 => 0xBF6C835E#32
  | 55 => 0x3D85F213#32
  | 56 => 0x3F5DB3D7#32
  | 57 => 0xBF54DB31#32
  | 58 => 0xBE05A8A8#32
  | 59 => 0x3F726A03#32
  | 60 => 0xBF3504F3#32
  | 61 => 0xBEA493B7#32
  | 62 => 0x3F7DCF55#32
  | 63 => 0xBF0E39DA#32
  | 64 => 0xBF000000#32
  | 65 => 0x3F7F73AF#32
  | 66 => 0xBEC3EF15#32
  | 67 => 0xBF28CAE3#32
  | 68 => 0x3F7746EA#32
  | 69 => 0xBE47C5C2#32
  | 70 => 0xBF4B1934#32
  | 71 => 0x3F659974#32
  | 72 => 0x248D3132#32
  | 73 => 0xBF659974#32
  | 74 => 0x3F4B1934#32
  | 75 => 0x3E47C5C2#32
  | 76 => 0xBF7746EA#32
  | 77 => 0x3F28CAE3#32
  | 78 => 0x3EC3EF15#32
  | 79 => 0xBF7F73AF#32
  | 80 => 0x3F000000#32
  | 81 => 0x3F0E39DA#32
  | 82 => 0xBF7DCF55#32
  | 83 => 0x3EA493B7#32
  | 84 => 0x3F3504F3#32
  | 85 => 0xBF726A03#32
  | 86 => 0x3E05A8A8#32
  | 87 => 0x3F54DB31#32
  | 88 => 0xBF5DB3D7#32
  | 89 => 0xBD85F213#32
  | 90 => 0x3F6C835E#32
  | 91 => 0xBF407893#32
  | 92 => 0xBE8483EE#32
  | 93 => 0x3F7B14BE#32
  | 94 => 0xBF1BD7CA#32
  | 95 => 0xBEE273AA#32
  | 96 => 0x3F800000#32
  | 97 => 0xBEE273AA#32
  | 98 => 0xBF1BD7CA#32
  | 99 => 0x3F7B14BE#32
  | 100 => 0xBE8483EE#32
  | 101 => 0xBF407893#32
  | 102 => 0x3F6C835E#32
  | 103 => 0xBD85F213#32
  | 104 => 0xBF5DB3D7#32
  | 105 => 0x3F54DB31#32
  | 106 => 0x3E05A8A8#32
  | 107 => 0xBF726A03#32
  | 108 => 0x3F3504F3#32
  | 109 => 0x3EA493B7#32
  | 110 => 0xBF7DCF55#32
  | 111 => 0x3F0E39DA#32
  | 112 => 0x3F000000#32
  | 113 => 0xBF7F73AF#32
  | 114 => 0x3EC3EF15#32
  | 115 => 0x3F28CAE3#32
  | 116 => 0xBF7746EA#32
  | 117 => 0x3E47C5C2#32
  | 118 => 0x3F4B1934#32
  | 119 => 0xBF659974#32
  | 120 => 0xA553C9CA#32
  | 121 => 0x3F659974#32
  | 122 => 0xBF4B1934#32
  | 123 => 0xBE47C5C2#32
  | 124 => 0x3F7746EA#32
  | 125 => 0xBF28CAE3#32
  | 126 => 0xBEC3EF15#32
  | 127 => 0x3F7F73AF#32
  | _ => 0#32

noncomputable abbrev lit0t0_211 (i : Nat) : BitVec 32 := match i % 128 with
  | 0 => 0xBF000000#32
  | 1 => 0xBF0E39DA#32
  | 2 => 0x3F7DCF55#32
  | 3 => 0xBEA493B7#32
  | 4 => 0xBF3504F3#32
  | 5 => 0x3F726A03#32
  | 6 => 0xBE05A8A8#32
  | 7 => 0xBF54DB31#32
  | 8 => 0x3F5DB3D7#32
  | 9 => 0x3D85F213#32
  | 10 => 0xBF6C835E#32
  | 11 => 0x3F407893#32
  | 12 => 0x3E8483EE#32
  | 13 => 0xBF7B14BE#32
  | 14 => 0x3F1BD7CA#32
  | 15 => 0x3EE273AA#32
  | 16 => 0xBF800000#32
  | 17 => 0x3EE273AA#32
  | 18 => 0x3F1BD7CA#32
  | 19 => 0xBF7B14BE#32
  | 20 => 0x3E8483EE#32
  | 21 => 0x3F407893#32
  | 22 => 0xBF6C835E#32
  | 23 => 0x3D85F213#32
  | 24 => 0x3F5DB3D7#32
  | 25 => 0xBF54DB31#32
  | 26 => 0xBE05A8A8#32
  | 27 => 0x3F726A03#32
  | 28 => 0xBF3504F3#32
  | 29 => 0xBEA493B7#32
  | 30 => 0x3F7DCF55#32
  | 31 => 0xBF0E39DA#32
  | 32 => 0xBF000000#32
  | 33 => 0x3F7F73AF#32
  | 34 => 0xBEC3EF15#32
  | 35 => 0xBF28CAE3#32
  | 36 => 0x3F7746EA#32
  | 37 => 0xBE47C5C2#32
  | 38 => 0xBF4B1934#32
  | 39 => 0x3F659974#32
  | 40 => 0x248D3132#32
  | 41 => 0xBF659974#32
  | 42 => 0x3F4B1934#32
  | 43 => 0x3E47C5C2#32
  | 44 => 0xBF7746EA#32
  | 45 => 0x3F28CAE3#32
  | 46 => 0x3EC3EF15#32
  | 47 => 0xBF7F73AF#32
  | 48 => 0x3F000000#32
  | 49 => 0x3F0E39DA#32
  | 50 => 0xBF7DCF55#32
  | 51 => 0x3EA493B7#32
  | 52 => 0x3F3504F3#32
  | 53 => 0xBF726A03#32
  | 54 => 0x3E05A8A8#32
  | 55 => 0x3F54DB31#32
  | 56 => 0xBF5DB3D7#32
  | 57 => 0xBD85F213#32
  | 58 => 0x3F6C835E#32
  | 59 => 0xBF407893#32
  | 60 => 0xBE8483EE#32
  | 61 => 0x3F7B14BE#32
  | 62 => 0xBF1BD7CA#32
  | 63 => 0xBEE273AA#32
  | 64 => 0x3F800000#32
  | 65 => 0xBEEC6A50#32
  | 66 => 0xBF12D5E8#32
  | 67 => 0x3F7DCF55#32
  | 68 => 0xBEAF1D44#32
  | 69 => 0xBF2CF37B#32
  | 70 => 0x3F7746EA#32
  | 71 => 0xBE5DA259#32
  | 72 => 0xBF441B7D#32
  | 73 => 0x3F6C835E#32
  | 74 => 0xBDB27EB6#32
  | 75 => 0xBF57E880#32
  | 76 => 0x3F5DB3D7#32
  | 77 => 0x3D32AA3E#32
  | 78 => 0xBF6803CA#32
  | 79 => 0x3F4B1934#32
  | 80 => 0x3E31D0D4#32
  | 81 => 0xBF7426CB#32
  | 82 => 0x3F3504F3#32
  | 83 => 0x3E99F61C#32
  | 84 => 0xBF7C1C5C#32
  | 85 => 0x3F1BD7CA#32
  | 86 => 0x3ED8616C#32
  | 87 => 0xBF7FC1A0#32
  | 88 => 0x3F000000#32
  | 89 => 0x3F098C78#32
  | 90 => 0xBF7F069E#32
  | 91 => 0x3EC3EF15#32
  | 92 => 0x3F248DBB#32
  | 93 => 0xBF79EE89#32
  | 94 => 0x3E8483EE#32
  | 95 => 0x3F3CBE35#32
  | 96 => 0xBF708FB2#32
  | 97 => 0x3E05A8A8#32
  | 98 => 0x3F51B3F3#32
  | 99 => 0xBF631324#32
  | 100 => 0xA553C9CA#32
  | 101 => 0x3F631324#32
  | 102 => 0xBF51B3F3#32
  | 103 => 0xBE05A8A8#32
  | 104 => 0x3F708FB2#32
  | 105 => 0xBF3CBE35#32
  | 106 => 0xBE8483EE#32
  | 107 => 0x3F79EE89#32
  | 108 => 0xBF248DBB#32
  | 109 => 0xBEC3EF15#32
  | 110 => 0x3F7F069E#32
  | 111 => 0xBF098C78#32
  | 112 => 0xBF000000#32
  | 113 => 0x3F7FC1A0#32
  | 114 => 0xBED8616C#32
  | 115 => 0xBF1BD7CA#32
  | 116 => 0x3F7C1C5C#32
  | 117 => 0xBE99F61C#32
  | 118 => 0xBF3504F3#32
  | 119 => 0x3F7426CB#32
  | 120 => 0xBE31D0D4#32
  | 121 => 0xBF4B1934#32
  | 122 => 0x3F6803CA#32
  | 123 => 0xBD32AA3E#32
  | 124 => 0xBF5DB3D7#32
  | 125 => 0x3F57E880#32
  | 126 => 0x3DB27EB6#32
  | 127 => 0xBF6C835E#32
  | _ => 0#32

noncomputable abbrev lit0t0_212 (i : Nat) : BitVec 32 := match i % 128 with
  | 0 => 0x3F441B7D#32
  | 1 => 0x3E5DA259#32
  | 2 => 0xBF7746EA#32
  | 3 => 0x3F2CF37B#32
  | 4 => 0x3EAF1D44#32
  | 5 => 0xBF7DCF55#32
  | 6 => 0x3F12D5E8#32
  | 7 => 0x3EEC6A50#32
  | 8 => 0xBF800000#32
  | 9 => 0x3EEC6A50#32
  | 10 => 0x3F12D5E8#32
  | 11 => 0xBF7DCF55#32
  | 12 => 0x3EAF1D44#32
  | 13 => 0x3F2CF37B#32
  | 14 => 0xBF7746EA#32
  | 15 => 0x3E5DA259#32
  | 16 => 0x3F441B7D#32
  | 17 => 0xBF6C835E#32
  | 18 => 0x3DB27EB6#32
  | 19 => 0x3F57E880#32
  | 20 => 0xBF5DB3D7#32
  | 21 => 0xBD32AA3E#32
  | 22 => 0x3F6803CA#32
  | 23 => 0xBF4B1934#32
  | 24 => 0xBE31D0D4#32
  | 25 => 0x3F7426CB#32
  | 26 => 0xBF3504F3#32
  | 27 => 0xBE99F61C#32
  | 28 => 0x3F7C1C5C#32
  | 29 => 0xBF1BD7CA#32
  | 30 => 0xBED8616C#32
  | 31 => 0x3F7FC1A0#32
  | 32 => 0xBF000000#32
  | 33 => 0xBF098C78#32
  | 34 => 0x3F7F069E#32
  | 35 => 0xBEC3EF15#32
  | 36 => 0xBF248DBB#32
  | 37 => 0x3F79EE89#32
  | 38 => 0xBE8483EE#32
  | 39 => 0xBF3CBE35#32
  | 40 => 0x3F708FB2#32
  | 41 => 0xBE05A8A8#32
  | 42 => 0xBF51B3F3#32
  | 43 => 0x3F631324#32
  | 44 => 0x248D3132#32
  | 45 => 0xBF631324#32
  | 46 => 0x3F51B3F3#32
  | 47 => 0x3E05A8A8#32
  | 48 => 0xBF708FB2#32
  | 49 => 0x3F3CBE35#32
  | 50 => 0x3E8483EE#32
  | 51 => 0xBF79EE89#32
  | 52 => 0x3F248DBB#32
  | 53 => 0x3EC3EF15#32
  | 54 => 0xBF7F069E#32
  | 55 => 0x3F098C78#32
  | 56 => 0x3F000000#32
  | 57 => 0xBF7FC1A0#32
  | 58 => 0x3ED8616C#32
  | 59 => 0x3F1BD7CA#32
  | 60 => 0xBF7C1C5C#32
  | 61 => 0x3E99F61C#32
  | 62 => 0x3F3504F3#32
  | 63 => 0xBF7426CB#32
  | 64 => 0x3E31D0D4#32
  | 65 => 0x3F4B1934#32
  | 66 => 0xBF6803CA#32
  | 67 => 0x3D32AA3E#32
  | 68 => 0x3F5DB3D7#32
  | 69 => 0xBF57E880#32
  | 70 => 0xBDB27EB6#32
  | 71 => 0x3F6C835E#32
  | 72 => 0xBF441B7D#32
  | 73 => 0xBE5DA259#32
  | 74 => 0x3F7746EA#32
  | 75 => 0xBF2CF37B#32
  | 76 => 0xBEAF1D44#32
  | 77 => 0x3F7DCF55#32
  | 78 => 0xBF12D5E8#32
  | 79 => 0xBEEC6A50#32
  | 80 => 0x3F800000#32
  | 81 => 0xBEEC6A50#32
  | 82 => 0xBF12D5E8#32
  | 83 => 0x3F7DCF55#32
  | 84 => 0xBEAF1D44#32
  | 85 => 0xBF2CF37B#32
  | 86 => 0x3F7746EA#32
  | 87 => 0xBE5DA259#32
  | 88 => 0xBF441B7D#32
  | 89 => 0x3F6C835E#32
  | 90 => 0xBDB27EB6#32
  | 91 => 0xBF57E880#32
  | 92 => 0x3F5DB3D7#32
  | 93 => 0x3D32AA3E#32
  | 94 => 0xBF6803CA#32
  | 95 => 0x3F4B1934#32
  | 96 => 0x3E31D0D4#32
  | 97 => 0xBF7426CB#32
  | 98 => 0x3F3504F3#32
  | 99 => 0x3E99F61C#32
  | 100 => 0xBF7C1C5C#32
  | 101 => 0x3F1BD7CA#32
  | 102 => 0x3ED8616C#32
  | 103 => 0xBF7FC1A0#32
  | 104 => 0x3F000000#32
  | 105 => 0x3F098C78#32
  | 106 => 0xBF7F069E#32
  | 107 => 0x3EC3EF15#32
  | 108 => 0x3F248DBB#32
  | 109 => 0xBF79EE89#32
  | 110 => 0x3E8483EE#32
  | 111 => 0x3F3CBE35#32
  | 112 => 0xBF708FB2#32
  | 113 => 0x3E05A8A8#32
  | 114 => 0x3F51B3F3#32
  | 115 => 0xBF631324#32
  | 116 => 0xA553C9CA#32
  | 117 => 0x3F631324#32
  | 118 => 0xBF51B3F3#32
  | 119 => 0xBE05A8A8#32
  | 120 => 0x3F708FB2#32
  | 121 => 0xBF3CBE35#32
  | 122 => 0xBE8483EE#32
  | 123 => 0x3F79EE89#32
  | 124 => 0xBF248DBB#32
  | 125 => 0xBEC3EF15#32
  | 126 => 0x3F7F069E#32
  | 127 => 0xBF098C78#32
  | _ => 0#32

noncomputable abbrev lit0t0_213 (i : Nat) : BitVec 32 := match i % 128 with
  | 0 => 0xBF000000#32
  | 1 => 0x3F7FC1A0#32
  | 2 => 0xBED8616C#32
  | 3 => 0xBF1BD7CA#32
  | 4 => 0x3F7C1C5C#32
  | 5 => 0xBE99F61C#32
  | 6 => 0xBF3504F3#32
  | 7 => 0x3F7426CB#32
  | 8 => 0xBE31D0D4#32
  | 9 => 0xBF4B1934#32
  | 10 => 0x3F6803CA#32
  | 11 => 0xBD32AA3E#32
  | 12 => 0xBF5DB3D7#32
  | 13 => 0x3F57E880#32
  | 14 => 0x3DB27EB6#32
  | 15 => 0xBF6C835E#32
  | 16 => 0x3F441B7D#32
  | 17 => 0x3E5DA259#32
  | 18 => 0xBF7746EA#32
  | 19 => 0x3F2CF37B#32
  | 20 => 0x3EAF1D44#32
  | 21 => 0xBF7DCF55#32
  | 22 => 0x3F12D5E8#32
  | 23 => 0x3EEC6A50#32
  | 24 => 0xBF800000#32
  | 25 => 0x3EEC6A50#32
  | 26 => 0x3F12D5E8#32
  | 27 => 0xBF7DCF55#32
  | 28 => 0x3EAF1D44#32
  | 29 => 0x3F2CF37B#32
  | 30 => 0xBF7746EA#32
  | 31 => 0x3E5DA259#32
  | 32 => 0x3F441B7D#32
  | 33 => 0xBF6C835E#32
  | 34 => 0x3DB27EB6#32
  | 35 => 0x3F57E880#32
  | 36 => 0xBF5DB3D7#32
  | 37 => 0xBD32AA3E#32
  | 38 => 0x3F6803CA#32
  | 39 => 0xBF4B1934#32
  | 40 => 0xBE31D0D4#32
  | 41 => 0x3F7426CB#32
  | 42 => 0xBF3504F3#32
  | 43 => 0xBE99F61C#32
  | 44 => 0x3F7C1C5C#32
  | 45 => 0xBF1BD7CA#32
  | 46 => 0xBED8616C#32
  | 47 => 0x3F7FC1A0#32
  | 48 => 0xBF000000#32
  | 49 => 0xBF098C78#32
  | 50 => 0x3F7F069E#32
  | 51 => 0xBEC3EF15#32
  | 52 => 0xBF248DBB#32
  | 53 => 0x3F79EE89#32
  | 54 => 0xBE8483EE#32
  | 55 => 0xBF3CBE35#32
  | 56 => 0x3F708FB2#32
  | 57 => 0xBE05A8A8#32
  | 58 => 0xBF51B3F3#32
  | 59 => 0x3F631324#32
  | 60 => 0x248D3132#32
  | 61 => 0xBF631324#32
  | 62 => 0x3F51B3F3#32
  | 63 => 0x3E05A8A8#32
  | 64 => 0xBF708FB2#32
  | 65 => 0x3F3CBE35#32
  | 66 => 0x3E8483EE#32
  | 67 => 0xBF79EE89#32
  | 68 => 0x3F248DBB#32
  | 69 => 0x3EC3EF15#32
  | 70 => 0xBF7F069E#32
  | 71 => 0x3F098C78#32
  | 72 => 0x3F000000#32
  | 73 => 0xBF7FC1A0#32
  | 74 => 0x3ED8616C#32
  | 75 => 0x3F1BD7CA#32
  | 76 => 0xBF7C1C5C#32
  | 77 => 0x3E99F61C#32
  | 78 => 0x3F3504F3#32
  | 79 => 0xBF7426CB#32
  | 80 => 0x3E31D0D4#32
  | 81 => 0x3F4B1934#32
  | 82 => 0xBF6803CA#32
  | 83 => 0x3D32AA3E#32
  | 84 => 0x3F5DB3D7#32
  | 85 => 0xBF57E880#32
  | 86 => 0xBDB27EB6#32
  | 87 => 0x3F6C835E#32
  | 88 => 0xBF441B7D#32
  | 89 => 0xBE5DA259#32
  | 90 => 0x3F7746EA#32
  | 91 => 0xBF2CF37B#32
  | 92 => 0xBEAF1D44#32
  | 93 => 0x3F7DCF55#32
  | 94 => 0xBF12D5E8#32
  | 95 => 0xBEEC6A50#32
  | 96 => 0x3F800000#32
  | 97 => 0xBEF64429#32
  | 98 => 0xBF098C78#32
  | 99 => 0x3F7F73AF#32
  | 100 => 0xBED8616C#32
  | 101 => 0xBF176012#32
  | 102 => 0x3F7DCF55#32
  | 103 => 0xBEB9917B#32
  | 104 => 0xBF248DBB#32
  | 105 => 0x3F7B14BE#32
  | 106 => 0xBE99F61C#32
  | 107 => 0xBF310700#32
  | 108 => 0x3F7746EA#32
  | 109 => 0xBE7363EE#32
  | 110 => 0xBF3CBE35#32
  | 111 => 0x3F726A03#32
  | 112 => 0xBE31D0D4#32
  | 113 => 0xBF47A682#32
  | 114 => 0x3F6C835E#32
  | 115 => 0xBDDEF599#32
  | 116 => 0xBF51B3F3#32
  | 117 => 0x3F659974#32
  | 118 => 0xBD32AA3E#32
  | 119 => 0xBF5ADB81#32
  | 120 => 0x3F5DB3D7#32
  | 121 => 0x3CB2B521#32
  | 122 => 0xBF631324#32
  | 123 => 0x3F54DB31#32
  | 124 => 0x3DB27EB6#32
  | 125 => 0xBF6A51DA#32
  | 126 => 0x3F4B1934#32
  | 127 => 0x3E1BC63C#32
  | _ => 0#32

noncomputable abbrev lit0t0_214 (i : Nat) : BitVec 32 := match i % 128 with
  | 0 => 0xBF708FB2#32
  | 1 => 0x3F407893#32
  | 2 => 0x3E5DA259#32
  | 3 => 0xBF75C5D4#32
  | 4 => 0x3F3504F3#32
  | 5 => 0x3E8F45C0#32
  | 6 => 0xBF79EE89#32
  | 7 => 0x3F28CAE3#32
  | 8 => 0x3EAF1D44#32
  | 9 => 0xBF7D0543#32
  | 10 => 0x3F1BD7CA#32
  | 11 => 0x3ECE34D0#32
  | 12 => 0xBF7F069E#32
  | 13 => 0x3F0E39DA#32
  | 14 => 0x3EEC6A50#32
  | 15 => 0xBF7FF067#32
  | 16 => 0x3F000000#32
  | 17 => 0x3F04CE53#32
  | 18 => 0xBF7FC1A0#32
  | 19 => 0x3EE273AA#32
  | 20 => 0x3F12D5E8#32
  | 21 => 0xBF7E7A7A#32
  | 22 => 0x3EC3EF15#32
  | 23 => 0x3F203C85#32
  | 24 => 0xBF7C1C5C#32
  | 25 => 0x3EA493B7#32
  | 26 => 0x3F2CF37B#32
  | 27 => 0xBF78A9E0#32
  | 28 => 0x3E8483EE#32
  | 29 => 0x3F38ECD8#32
  | 30 => 0xBF7426CB#32
  | 31 => 0x3E47C5C2#32
  | 32 => 0x3F441B7D#32
  | 33 => 0xBF6E9811#32
  | 34 => 0x3E05A8A8#32
  | 35 => 0x3F4E7327#32
  | 36 => 0xBF6803CA#32
  | 37 => 0x3D85F213#32
  | 38 => 0x3F57E880#32
  | 39 => 0xBF60712A#32
  | 40 => 0xA553C9CA#32
  | 41 => 0x3F60712A#32
  | 42 => 0xBF57E880#32
  | 43 => 0xBD85F213#32
  | 44 => 0x3F6803CA#32
  | 45 => 0xBF4E7327#32
  | 46 => 0xBE05A8A8#32
  | 47 => 0x3F6E9811#32
  | 48 => 0xBF441B7D#32
  | 49 => 0xBE47C5C2#32
  | 50 => 0x3F7426CB#32
  | 51 => 0xBF38ECD8#32
  | 52 => 0xBE8483EE#32
  | 53 => 0x3F78A9E0#32
  | 54 => 0xBF2CF37B#32
  | 55 => 0xBEA493B7#32
  | 56 => 0x3F7C1C5C#32
  | 57 => 0xBF203C85#32
  | 58 => 0xBEC3EF15#32
  | 59 => 0x3F7E7A7A#32
  | 60 => 0xBF12D5E8#32
  | 61 => 0xBEE273AA#32
  | 62 => 0x3F7FC1A0#32
  | 63 => 0xBF04CE53#32
  | 64 => 0xBF000000#32
  | 65 => 0x3F7FF067#32
  | 66 => 0xBEEC6A50#32
  | 67 => 0xBF0E39DA#32
  | 68 => 0x3F7F069E#32
  | 69 => 0xBECE34D0#32
  | 70 => 0xBF1BD7CA#32
  | 71 => 0x3F7D0543#32
  | 72 => 0xBEAF1D44#32
  | 73 => 0xBF28CAE3#32
  | 74 => 0x3F79EE89#32
  | 75 => 0xBE8F45C0#32
  | 76 => 0xBF3504F3#32
  | 77 => 0x3F75C5D4#32
  | 78 => 0xBE5DA259#32
  | 79 => 0xBF407893#32
  | 80 => 0x3F708FB2#32
  | 81 => 0xBE1BC63C#32
  | 82 => 0xBF4B1934#32
  | 83 => 0x3F6A51DA#32
  | 84 => 0xBDB27EB6#32
  | 85 => 0xBF54DB31#32
  | 86 => 0x3F631324#32
  | 87 => 0xBCB2B521#32
  | 88 => 0xBF5DB3D7#32
  | 89 => 0x3F5ADB81#32
  | 90 => 0x3D32AA3E#32
  | 91 => 0xBF659974#32
  | 92 => 0x3F51B3F3#32
  | 93 => 0x3DDEF599#32
  | 94 => 0xBF6C835E#32
  | 95 => 0x3F47A682#32
  | 96 => 0x3E31D0D4#32
  | 97 => 0xBF726A03#32
  | 98 => 0x3F3CBE35#32
  | 99 => 0x3E7363EE#32
  | 100 => 0xBF7746EA#32
  | 101 => 0x3F310700#32
  | 102 => 0x3E99F61C#32
  | 103 => 0xBF7B14BE#32
  | 104 => 0x3F248DBB#32
  | 105 => 0x3EB9917B#32
  | 106 => 0xBF7DCF55#32
  | 107 => 0x3F176012#32
  | 108 => 0x3ED8616C#32
  | 109 => 0xBF7F73AF#32
  | 110 => 0x3F098C78#32
  | 111 => 0x3EF64429#32
  | 112 => 0xBF800000#32
  | 113 => 0x3EF64429#32
  | 114 => 0x3F098C78#32
  | 115 => 0xBF7F73AF#32
  | 116 => 0x3ED8616C#32
  | 117 => 0x3F176012#32
  | 118 => 0xBF7DCF55#32
  | 119 => 0x3EB9917B#32
  | 120 => 0x3F248DBB#32
  | 121 => 0xBF7B14BE#32
  | 122 => 0x3E99F61C#32
  | 123 => 0x3F310700#32
  | 124 => 0xBF7746EA#32
  | 125 => 0x3E7363EE#32
  | 126 => 0x3F3CBE35#32
  | 127 => 0xBF726A03#32
  | _ => 0#32

noncomputable abbrev lit0t0_215 (i : Nat) : BitVec 32 := match i % 128 with
  | 0 => 0x3E31D0D4#32
  | 1 => 0x3F47A682#32
  | 2 => 0xBF6C835E#32
  | 3 => 0x3DDEF599#32
  | 4 => 0x3F51B3F3#32
  | 5 => 0xBF659974#32
  | 6 => 0x3D32AA3E#32
  | 7 => 0x3F5ADB81#32
  | 8 => 0xBF5DB3D7#32
  | 9 => 0xBCB2B521#32
  | 10 => 0x3F631324#32
  | 11 => 0xBF54DB31#32
  | 12 => 0xBDB27EB6#32
  | 13 => 0x3F6A51DA#32
  | 14 => 0xBF4B1934#32
  | 15 => 0xBE1BC63C#32
  | 16 => 0x3F708FB2#32
  | 17 => 0xBF407893#32
  | 18 => 0xBE5DA259#32
  | 19 => 0x3F75C5D4#32
  | 20 => 0xBF3504F3#32
  | 21 => 0xBE8F45C0#32
  | 22 => 0x3F79EE89#32
  | 23 => 0xBF28CAE3#32
  | 24 => 0xBEAF1D44#32
  | 25 => 0x3F7D0543#32
  | 26 => 0xBF1BD7CA#32
  | 27 => 0xBECE34D0#32
  | 28 => 0x3F7F069E#32
  | 29 => 0xBF0E39DA#32
  | 30 => 0xBEEC6A50#32
  | 31 => 0x3F7FF067#32
  | 32 => 0xBF000000#32
  | 33 => 0xBF04CE53#32
  | 34 => 0x3F7FC1A0#32
  | 35 => 0xBEE273AA#32
  | 36 => 0xBF12D5E8#32
  | 37 => 0x3F7E7A7A#32
  | 38 => 0xBEC3EF15#32
  | 39 => 0xBF203C85#32
  | 40 => 0x3F7C1C5C#32
  | 41 => 0xBEA493B7#32
  | 42 => 0xBF2CF37B#32
  | 43 => 0x3F78A9E0#32
  | 44 => 0xBE8483EE#32
  | 45 => 0xBF38ECD8#32
  | 46 => 0x3F7426CB#32
  | 47 => 0xBE47C5C2#32
  | 48 => 0xBF441B7D#32
  | 49 => 0x3F6E9811#32
  | 50 => 0xBE05A8A8#32
  | 51 => 0xBF4E7327#32
  | 52 => 0x3F6803CA#32
  | 53 => 0xBD85F213#32
  | 54 => 0xBF57E880#32
  | 55 => 0x3F60712A#32
  | 56 => 0x248D3132#32
  | 57 => 0xBF60712A#32
  | 58 => 0x3F57E880#32
  | 59 => 0x3D85F213#32
  | 60 => 0xBF6803CA#32
  | 61 => 0x3F4E7327#32
  | 62 => 0x3E05A8A8#32
  | 63 => 0xBF6E9811#32
  | 64 => 0x3F441B7D#32
  | 65 => 0x3E47C5C2#32
  | 66 => 0xBF7426CB#32
  | 67 => 0x3F38ECD8#32
  | 68 => 0x3E8483EE#32
  | 69 => 0xBF78A9E0#32
  | 70 => 0x3F2CF37B#32
  | 71 => 0x3EA493B7#32
  | 72 => 0xBF7C1C5C#32
  | 73 => 0x3F203C85#32
  | 74 => 0x3EC3EF15#32
  | 75 => 0xBF7E7A7A#32
  | 76 => 0x3F12D5E8#32
  | 77 => 0x3EE273AA#32
  | 78 => 0xBF7FC1A0#32
  | 79 => 0x3F04CE53#32
  | 80 => 0x3F000000#32
  | 81 => 0xBF7FF067#32
  | 82 => 0x3EEC6A50#32
  | 83 => 0x3F0E39DA#32
  | 84 => 0xBF7F069E#32
  | 85 => 0x3ECE34D0#32
  | 86 => 0x3F1BD7CA#32
  | 87 => 0xBF7D0543#32
  | 88 => 0x3EAF1D44#32
  | 89 => 0x3F28CAE3#32
  | 90 => 0xBF79EE89#32
  | 91 => 0x3E8F45C0#32
  | 92 => 0x3F3504F3#32
  | 93 => 0xBF75C5D4#32
  | 94 => 0x3E5DA259#32
  | 95 => 0x3F407893#32
  | 96 => 0xBF708FB2#32
  | 97 => 0x3E1BC63C#32
  | 98 => 0x3F4B1934#32
  | 99 => 0xBF6A51DA#32
  | 100 => 0x3DB27EB6#32
  | 101 => 0x3F54DB31#32
  | 102 => 0xBF631324#32
  | 103 => 0x3CB2B521#32
  | 104 => 0x3F5DB3D7#32
  | 105 => 0xBF5ADB81#32
  | 106 => 0xBD32AA3E#32
  | 107 => 0x3F659974#32
  | 108 => 0xBF51B3F3#32
  | 109 => 0xBDDEF599#32
  | 110 => 0x3F6C835E#32
  | 111 => 0xBF47A682#32
  | 112 => 0xBE31D0D4#32
  | 113 => 0x3F726A03#32
  | 114 => 0xBF3CBE35#32
  | 115 => 0xBE7363EE#32
  | 116 => 0x3F7746EA#32
  | 117 => 0xBF310700#32
  | 118 => 0xBE99F61C#32
  | 119 => 0x3F7B14BE#32
  | 120 => 0xBF248DBB#32
  | 121 => 0xBEB9917B#32
  | 122 => 0x3F7DCF55#32
  | 123 => 0xBF176012#32
  | 124 => 0xBED8616C#32
  | 125 => 0x3F7F73AF#32
  | 126 => 0xBF098C78#32
  | 127 => 0xBEF64429#32
  | _ => 0#32

noncomputable abbrev lit0t0_216 (i : Nat) : BitVec 32 := match i % 128 with
  | 0 => 0x3F800000#32
  | 1 => 0xBF000000#32
  | 2 => 0xBF000000#32
  | 3 => 0x3F800000#32
  | 4 => 0xBF000000#32
  | 5 => 0xBF000000#32
  | 6 => 0x3F800000#32
  | 7 => 0xBF000000#32
  | 8 => 0xBF000000#32
  | 9 => 0x3F800000#32
  | 10 => 0xBF000000#32
  | 11 => 0xBF000000#32
  | 12 => 0x3F800000#32
  | 13 => 0xBF000000#32
  | 14 => 0xBF000000#32
  | 15 => 0x3F800000#32
  | 16 => 0xBF000000#32
  | 17 => 0xBF000000#32
  | 18 => 0x3F800000#32
  | 19 => 0xBF000000#32
  | 20 => 0xBF000000#32
  | 21 => 0x3F800000#32
  | 22 => 0xBF000000#32
  | 23 => 0xBF000000#32
  | 24 => 0x3F800000#32
  | 25 => 0xBF000000#32
  | 26 => 0xBF000000#32
  | 27 => 0x3F800000#32
  | 28 => 0xBF000000#32
  | 29 => 0xBF000000#32
  | 30 => 0x3F800000#32
  | 31 => 0xBF000000#32
  | 32 => 0xBF000000#32
  | 33 => 0x3F800000#32
  | 34 => 0xBF000000#32
  | 35 => 0xBF000000#32
  | 36 => 0x3F800000#32
  | 37 => 0xBF000000#32
  | 38 => 0xBF000000#32
  | 39 => 0x3F800000#32
  | 40 => 0xBF000000#32
  | 41 => 0xBF000000#32
  | 42 => 0x3F800000#32
  | 43 => 0xBF000000#32
  | 44 => 0xBF000000#32
  | 45 => 0x3F800000#32
  | 46 => 0xBF000000#32
  | 47 => 0xBF000000#32
  | 48 => 0x3F800000#32
  | 49 => 0xBF000000#32
  | 50 => 0xBF000000#32
  | 51 => 0x3F800000#32
  | 52 => 0xBF000000#32
  | 53 => 0xBF000000#32
  | 54 => 0x3F800000#32
  | 55 => 0xBF000000#32
  | 56 => 0xBF000000#32
  | 57 => 0x3F800000#32
  | 58 => 0xBF000000#32
  | 59 => 0xBF000000#32
  | 60 => 0x3F800000#32
  | 61 => 0xBF000000#32
  | 62 => 0xBF000000#32
  | 63 => 0x3F800000#32
  | 64 => 0xBF000000#32
  | 65 => 0xBF000000#32
  | 66 => 0x3F800000#32
  | 67 => 0xBF000000#32
  | 68 => 0xBF000000#32
  | 69 => 0x3F800000#32
  | 70 => 0xBF000000#32
  | 71 => 0xBF000000#32
  | 72 => 0x3F800000#32
  | 73 => 0xBF000000#32
  | 74 => 0xBF000000#32
  | 75 => 0x3F800000#32
  | 76 => 0xBF000000#32
  | 77 => 0xBF000000#32
  | 78 => 0x3F800000#32
  | 79 => 0xBF000000#32
  | 80 => 0xBF000000#32
  | 81 => 0x3F800000#32
  | 82 => 0xBF000000#32
  | 83 => 0xBF000000#32
  | 84 => 0x3F800000#32
  | 85 => 0xBF000000#32
  | 86 => 0xBF000000#32
  | 87 => 0x3F800000#32
  | 88 => 0xBF000000#32
  | 89 => 0xBF000000#32
  | 90 => 0x3F800000#32
  | 91 => 0xBF000000#32
  | 92 => 0xBF000000#32
  | 93 => 0x3F800000#32
  | 94 => 0xBF000000#32
  | 95 => 0xBF000000#32
  | 96 => 0x3F800000#32
  | 97 => 0xBF000000#32
  | 98 => 0xBF000000#32
  | 99 => 0x3F800000#32
  | 100 => 0xBF000000#32
  | 101 => 0xBF000000#32
  | 102 => 0x3F800000#32
  | 103 => 0xBF000000#32
  | 104 => 0xBF000000#32
  | 105 => 0x3F800000#32
  | 106 => 0xBF000000#32
  | 107 => 0xBF000000#32
  | 108 => 0x3F800000#32
  | 109 => 0xBF000000#32
  | 110 => 0xBF000000#32
  | 111 => 0x3F800000#32
  | 112 => 0xBF000000#32
  | 113 => 0xBF000000#32
  | 114 => 0x3F800000#32
  | 115 => 0xBF000000#32
  | 116 => 0xBF000000#32
  | 117 => 0x3F800000#32
  | 118 => 0xBF000000#32
  | 119 => 0xBF000000#32
  | 120 => 0x3F800000#32
  | 121 => 0xBF000000#32
  | 122 => 0xBF000000#32
  | 123 => 0x3F800000#32
  | 124 => 0xBF000000#32
  | 125 => 0xBF000000#32
  | 126 => 0x3F800000#32
  | 127 => 0xBF000000#32
  | _ => 0#32

noncomputable abbrev lit0t0_217 (i : Nat) : BitVec 32 := match i % 128 with
  | 0 => 0xBF000000#32
  | 1 => 0x3F800000#32
  | 2 => 0xBF000000#32
  | 3 => 0xBF000000#32
  | 4 => 0x3F800000#32
  | 5 => 0xBF000000#32
  | 6 => 0xBF000000#32
  | 7 => 0x3F800000#32
  | 8 => 0xBF000000#32
  | 9 => 0xBF000000#32
  | 10 => 0x3F800000#32
  | 11 => 0xBF000000#32
  | 12 => 0xBF000000#32
  | 13 => 0x3F800000#32
  | 14 => 0xBF000000#32
  | 15 => 0xBF000000#32
  | 16 => 0x3F800000#32
  | 17 => 0xBF000000#32
  | 18 => 0xBF000000#32
  | 19 => 0x3F800000#32
  | 20 => 0xBF000000#32
  | 21 => 0xBF000000#32
  | 22 => 0x3F800000#32
  | 23 => 0xBF000000#32
  | 24 => 0xBF000000#32
  | 25 => 0x3F800000#32
  | 26 => 0xBF000000#32
  | 27 => 0xBF000000#32
  | 28 => 0x3F800000#32
  | 29 => 0xBF000000#32
  | 30 => 0xBF000000#32
  | 31 => 0x3F800000#32
  | 32 => 0xBF000000#32
  | 33 => 0xBF000000#32
  | 34 => 0x3F800000#32
  | 35 => 0xBF000000#32
  | 36 => 0xBF000000#32
  | 37 => 0x3F800000#32
  | 38 => 0xBF000000#32
  | 39 => 0xBF000000#32
  | 40 => 0x3F800000#32
  | 41 => 0xBF000000#32
  | 42 => 0xBF000000#32
  | 43 => 0x3F800000#32
  | 44 => 0xBF000000#32
  | 45 => 0xBF000000#32
  | 46 => 0x3F800000#32
  | 47 => 0xBF000000#32
  | 48 => 0xBF000000#32
  | 49 => 0x3F800000#32
  | 50 => 0xBF000000#32
  | 51 => 0xBF000000#32
  | 52 => 0x3F800000#32
  | 53 => 0xBF000000#32
  | 54 => 0xBF000000#32
  | 55 => 0x3F800000#32
  | 56 => 0xBF000000#32
  | 57 => 0xBF000000#32
  | 58 => 0x3F800000#32
  | 59 => 0xBF000000#32
  | 60 => 0xBF000000#32
  | 61 => 0x3F800000#32
  | 62 => 0xBF000000#32
  | 63 => 0xBF000000#32
  | 64 => 0x3F800000#32
  | 65 => 0xBF000000#32
  | 66 => 0xBF000000#32
  | 67 => 0x3F800000#32
  | 68 => 0xBF000000#32
  | 69 => 0xBF000000#32
  | 70 => 0x3F800000#32
  | 71 => 0xBF000000#32
  | 72 => 0xBF000000#32
  | 73 => 0x3F800000#32
  | 74 => 0xBF000000#32
  | 75 => 0xBF000000#32
  | 76 => 0x3F800000#32
  | 77 => 0xBF000000#32
  | 78 => 0xBF000000#32
  | 79 => 0x3F800000#32
  | 80 => 0xBF000000#32
  | 81 => 0xBF000000#32
  | 82 => 0x3F800000#32
  | 83 => 0xBF000000#32
  | 84 => 0xBF000000#32
  | 85 => 0x3F800000#32
  | 86 => 0xBF000000#32
  | 87 => 0xBF000000#32
  | 88 => 0x3F800000#32
  | 89 => 0xBF000000#32
  | 90 => 0xBF000000#32
  | 91 => 0x3F800000#32
  | 92 => 0xBF000000#32
  | 93 => 0xBF000000#32
  | 94 => 0x3F800000#32
  | 95 => 0xBF000000#32
  | 96 => 0xBF000000#32
  | 97 => 0x3F800000#32
  | 98 => 0xBF000000#32
  | 99 => 0xBF000000#32
  | 100 => 0x3F800000#32
  | 101 => 0xBF000000#32
  | 102 => 0xBF000000#32
  | 103 => 0x3F800000#32
  | 104 => 0xBF000000#32
  | 105 => 0xBF000000#32
  | 106 => 0x3F800000#32
  | 107 => 0xBF000000#32
  | 108 => 0xBF000000#32
  | 109 => 0x3F800000#32
  | 110 => 0xBF000000#32
  | 111 => 0xBF000000#32
  | 112 => 0x3F800000#32
  | 113 => 0xBF000000#32
  | 114 => 0xBF000000#32
  | 115 => 0x3F800000#32
  | 116 => 0xBF000000#32
  | 117 => 0xBF000000#32
  | 118 => 0x3F800000#32
  | 119 => 0xBF000000#32
  | 120 => 0xBF000000#32
  | 121 => 0x3F800000#32
  | 122 => 0xBF000000#32
  | 123 => 0xBF000000#32
  | 124 => 0x3F800000#32
  | 125 => 0xBF000000#32
  | 126 => 0xBF000000#32
  | 127 => 0x3F800000#32
  | _ => 0#32

noncomputable abbrev lit0t0_218 (i : Nat) : BitVec 32 := match i % 128 with
  | 0 => 0xBF000000#32
  | 1 => 0xBF000000#32
  | 2 => 0x3F800000#32
  | 3 => 0xBF000000#32
  | 4 => 0xBF000000#32
  | 5 => 0x3F800000#32
  | 6 => 0xBF000000#32
  | 7 => 0xBF000000#32
  | 8 => 0x3F800000#32
  | 9 => 0xBF000000#32
  | 10 => 0xBF000000#32
  | 11 => 0x3F800000#32
  | 12 => 0xBF000000#32
  | 13 => 0xBF000000#32
  | 14 => 0x3F800000#32
  | 15 => 0xBF000000#32
  | 16 => 0xBF000000#32
  | 17 => 0x3F800000#32
  | 18 => 0xBF000000#32
  | 19 => 0xBF000000#32
  | 20 => 0x3F800000#32
  | 21 => 0xBF000000#32
  | 22 => 0xBF000000#32
  | 23 => 0x3F800000#32
  | 24 => 0xBF000000#32
  | 25 => 0xBF000000#32
  | 26 => 0x3F800000#32
  | 27 => 0xBF000000#32
  | 28 => 0xBF000000#32
  | 29 => 0x3F800000#32
  | 30 => 0xBF000000#32
  | 31 => 0xBF000000#32
  | 32 => 0x3F800000#32
  | 33 => 0xBF04CE53#32
  | 34 => 0xBEEC6A50#32
  | 35 => 0x3F7F73AF#32
  | 36 => 0xBF12D5E8#32
  | 37 => 0xBECE34D0#32
  | 38 => 0x3F7DCF55#32
  | 39 => 0xBF203C85#32
  | 40 => 0xBEAF1D44#32
  | 41 => 0x3F7B14BE#32
  | 42 => 0xBF2CF37B#32
  | 43 => 0xBE8F45C0#32
  | 44 => 0x3F7746EA#32
  | 45 => 0xBF38ECD8#32
  | 46 => 0xBE5DA259#32
  | 47 => 0x3F726A03#32
  | 48 => 0xBF441B7D#32
  | 49 => 0xBE1BC63C#32
  | 50 => 0x3F6C835E#32
  | 51 => 0xBF4E7327#32
  | 52 => 0xBDB27EB6#32
  | 53 => 0x3F659974#32
  | 54 => 0xBF57E880#32
  | 55 => 0xBCB2B521#32
  | 56 => 0x3F5DB3D7#32
  | 57 => 0xBF60712A#32
  | 58 => 0x3D32AA3E#32
  | 59 => 0x3F54DB31#32
  | 60 => 0xBF6803CA#32
  | 61 => 0x3DDEF599#32
  | 62 => 0x3F4B1934#32
  | 63 => 0xBF6E9811#32
  | 64 => 0x3E31D0D4#32
  | 65 => 0x3F407893#32
  | 66 => 0xBF7426CB#32
  | 67 => 0x3E7363EE#32
  | 68 => 0x3F3504F3#32
  | 69 => 0xBF78A9E0#32
  | 70 => 0x3E99F61C#32
  | 71 => 0x3F28CAE3#32
  | 72 => 0xBF7C1C5C#32
  | 73 => 0x3EB9917B#32
  | 74 => 0x3F1BD7CA#32
  | 75 => 0xBF7E7A7A#32
  | 76 => 0x3ED8616C#32
  | 77 => 0x3F0E39DA#32
  | 78 => 0xBF7FC1A0#32
  | 79 => 0x3EF64429#32
  | 80 => 0x3F000000#32
  | 81 => 0xBF7FF067#32
  | 82 => 0x3F098C78#32
  | 83 => 0x3EE273AA#32
  | 84 => 0xBF7F069E#32
  | 85 => 0x3F176012#32
  | 86 => 0x3EC3EF15#32
  | 87 => 0xBF7D0543#32
  | 88 => 0x3F248DBB#32
  | 89 => 0x3EA493B7#32
  | 90 => 0xBF79EE89#32
  | 91 => 0x3F310700#32
  | 92 => 0x3E8483EE#32
  | 93 => 0xBF75C5D4#32
  | 94 => 0x3F3CBE35#32
  | 95 => 0x3E47C5C2#32
  | 96 => 0xBF708FB2#32
  | 97 => 0x3F47A682#32
  | 98 => 0x3E05A8A8#32
  | 99 => 0xBF6A51DA#32
  | 100 => 0x3F51B3F3#32
  | 101 => 0x3D85F213#32
  | 102 => 0xBF631324#32
  | 103 => 0x3F5ADB81#32
  | 104 => 0x248D3132#32
  | 105 => 0xBF5ADB81#32
  | 106 => 0x3F631324#32
  | 107 => 0xBD85F213#32
  | 108 => 0xBF51B3F3#32
  | 109 => 0x3F6A51DA#32
  | 110 => 0xBE05A8A8#32
  | 111 => 0xBF47A682#32
  | 112 => 0x3F708FB2#32
  | 113 => 0xBE47C5C2#32
  | 114 => 0xBF3CBE35#32
  | 115 => 0x3F75C5D4#32
  | 116 => 0xBE8483EE#32
  | 117 => 0xBF310700#32
  | 118 => 0x3F79EE89#32
  | 119 => 0xBEA493B7#32
  | 120 => 0xBF248DBB#32
  | 121 => 0x3F7D0543#32
  | 122 => 0xBEC3EF15#32
  | 123 => 0xBF176012#32
  | 124 => 0x3F7F069E#32
  | 125 => 0xBEE273AA#32
  | 126 => 0xBF098C78#32
  | 127 => 0x3F7FF067#32
  | _ => 0#32

noncomputable abbrev lit0t0_219 (i : Nat) : BitVec 32 := match i % 128 with
  | 0 => 0xBF000000#32
  | 1 => 0xBEF64429#32
  | 2 => 0x3F7FC1A0#32
  | 3 => 0xBF0E39DA#32
  | 4 => 0xBED8616C#32
  | 5 => 0x3F7E7A7A#32
  | 6 => 0xBF1BD7CA#32
  | 7 => 0xBEB9917B#32
  | 8 => 0x3F7C1C5C#32
  | 9 => 0xBF28CAE3#32
  | 10 => 0xBE99F61C#32
  | 11 => 0x3F78A9E0#32
  | 12 => 0xBF3504F3#32
  | 13 => 0xBE7363EE#32
  | 14 => 0x3F7426CB#32
  | 15 => 0xBF407893#32
  | 16 => 0xBE31D0D4#32
  | 17 => 0x3F6E9811#32
  | 18 => 0xBF4B1934#32
  | 19 => 0xBDDEF599#32
  | 20 => 0x3F6803CA#32
  | 21 => 0xBF54DB31#32
  | 22 => 0xBD32AA3E#32
  | 23 => 0x3F60712A#32
  | 24 => 0xBF5DB3D7#32
  | 25 => 0x3CB2B521#32
  | 26 => 0x3F57E880#32
  | 27 => 0xBF659974#32
  | 28 => 0x3DB27EB6#32
  | 29 => 0x3F4E7327#32
  | 30 => 0xBF6C835E#32
  | 31 => 0x3E1BC63C#32
  | 32 => 0x3F441B7D#32
  | 33 => 0xBF726A03#32
  | 34 => 0x3E5DA259#32
  | 35 => 0x3F38ECD8#32
  | 36 => 0xBF7746EA#32
  | 37 => 0x3E8F45C0#32
  | 38 => 0x3F2CF37B#32
  | 39 => 0xBF7B14BE#32
  | 40 => 0x3EAF1D44#32
  | 41 => 0x3F203C85#32
  | 42 => 0xBF7DCF55#32
  | 43 => 0x3ECE34D0#32
  | 44 => 0x3F12D5E8#32
  | 45 => 0xBF7F73AF#32
  | 46 => 0x3EEC6A50#32
  | 47 => 0x3F04CE53#32
  | 48 => 0xBF800000#32
  | 49 => 0x3F04CE53#32
  | 50 => 0x3EEC6A50#32
  | 51 => 0xBF7F73AF#32
  | 52 => 0x3F12D5E8#32
  | 53 => 0x3ECE34D0#32
  | 54 => 0xBF7DCF55#32
  | 55 => 0x3F203C85#32
  | 56 => 0x3EAF1D44#32
  | 57 => 0xBF7B14BE#32
  | 58 => 0x3F2CF37B#32
  | 59 => 0x3E8F45C0#32
  | 60 => 0xBF7746EA#32
  | 61 => 0x3F38ECD8#32
  | 62 => 0x3E5DA259#32
  | 63 => 0xBF726A03#32
  | 64 => 0x3F441B7D#32
  | 65 => 0x3E1BC63C#32
  | 66 => 0xBF6C835E#32
  | 67 => 0x3F4E7327#32
  | 68 => 0x3DB27EB6#32
  | 69 => 0xBF659974#32
  | 70 => 0x3F57E880#32
  | 71 => 0x3CB2B521#32
  | 72 => 0xBF5DB3D7#32
  | 73 => 0x3F60712A#32
  | 74 => 0xBD32AA3E#32
  | 75 => 0xBF54DB31#32
  | 76 => 0x3F6803CA#32
  | 77 => 0xBDDEF599#32
  | 78 => 0xBF4B1934#32
  | 79 => 0x3F6E9811#32
  | 80 => 0xBE31D0D4#32
  | 81 => 0xBF407893#32
  | 82 => 0x3F7426CB#32
  | 83 => 0xBE7363EE#32
  | 84 => 0xBF3504F3#32
  | 85 => 0x3F78A9E0#32
  | 86 => 0xBE99F61C#32
  | 87 => 0xBF28CAE3#32
  | 88 => 0x3F7C1C5C#32
  | 89 => 0xBEB9917B#32
  | 90 => 0xBF1BD7CA#32
  | 91 => 0x3F7E7A7A#32
  | 92 => 0xBED8616C#32
  | 93 => 0xBF0E39DA#32
  | 94 => 0x3F7FC1A0#32
  | 95 => 0xBEF64429#32
  | 96 => 0xBF000000#32
  | 97 => 0x3F7FF067#32
  | 98 => 0xBF098C78#32
  | 99 => 0xBEE273AA#32
  | 100 => 0x3F7F069E#32
  | 101 => 0xBF176012#32
  | 102 => 0xBEC3EF15#32
  | 103 => 0x3F7D0543#32
  | 104 => 0xBF248DBB#32
  | 105 => 0xBEA493B7#32
  | 106 => 0x3F79EE89#32
  | 107 => 0xBF310700#32
  | 108 => 0xBE8483EE#32
  | 109 => 0x3F75C5D4#32
  | 110 => 0xBF3CBE35#32
  | 111 => 0xBE47C5C2#32
  | 112 => 0x3F708FB2#32
  | 113 => 0xBF47A682#32
  | 114 => 0xBE05A8A8#32
  | 115 => 0x3F6A51DA#32
  | 116 => 0xBF51B3F3#32
  | 117 => 0xBD85F213#32
  | 118 => 0x3F631324#32
  | 119 => 0xBF5ADB81#32
  | 120 => 0xA553C9CA#32
  | 121 => 0x3F5ADB81#32
  | 122 => 0xBF631324#32
  | 123 => 0x3D85F213#32
  | 124 => 0x3F51B3F3#32
  | 125 => 0xBF6A51DA#32
  | 126 => 0x3E05A8A8#32
  | 127 => 0x3F47A682#32
  | _ => 0#32

noncomputable abbrev lit0t0_220 (i : Nat) : BitVec 32 := match i % 128 with
  | 0 => 0xBF708FB2#32
  | 1 => 0x3E47C5C2#32
  | 2 => 0x3F3CBE35#32
  | 3 => 0xBF75C5D4#32
  | 4 => 0x3E8483EE#32
  | 5 => 0x3F310700#32
  | 6 => 0xBF79EE89#32
  | 7 => 0x3EA493B7#32
  | 8 => 0x3F248DBB#32
  | 9 => 0xBF7D0543#32
  | 10 => 0x3EC3EF15#32
  | 11 => 0x3F176012#32
  | 12 => 0xBF7F069E#32
  | 13 => 0x3EE273AA#32
  | 14 => 0x3F098C78#32
  | 15 => 0xBF7FF067#32
  | 16 => 0x3F000000#32
  | 17 => 0x3EF64429#32
  | 18 => 0xBF7FC1A0#32
  | 19 => 0x3F0E39DA#32
  | 20 => 0x3ED8616C#32
  | 21 => 0xBF7E7A7A#32
  | 22 => 0x3F1BD7CA#32
  | 23 => 0x3EB9917B#32
  | 24 => 0xBF7C1C5C#32
  | 25 => 0x3F28CAE3#32
  | 26 => 0x3E99F61C#32
  | 27 => 0xBF78A9E0#32
  | 28 => 0x3F3504F3#32
  | 29 => 0x3E7363EE#32
  | 30 => 0xBF7426CB#32
  | 31 => 0x3F407893#32
  | 32 => 0x3E31D0D4#32
  | 33 => 0xBF6E9811#32
  | 34 => 0x3F4B1934#32
  | 35 => 0x3DDEF599#32
  | 36 => 0xBF6803CA#32
  | 37 => 0x3F54DB31#32
  | 38 => 0x3D32AA3E#32
  | 39 => 0xBF60712A#32
  | 40 => 0x3F5DB3D7#32
  | 41 => 0xBCB2B521#32
  | 42 => 0xBF57E880#32
  | 43 => 0x3F659974#32
  | 44 => 0xBDB27EB6#32
  | 45 => 0xBF4E7327#32
  | 46 => 0x3F6C835E#32
  | 47 => 0xBE1BC63C#32
  | 48 => 0xBF441B7D#32
  | 49 => 0x3F726A03#32
  | 50 => 0xBE5DA259#32
  | 51 => 0xBF38ECD8#32
  | 52 => 0x3F7746EA#32
  | 53 => 0xBE8F45C0#32
  | 54 => 0xBF2CF37B#32
  | 55 => 0x3F7B14BE#32
  | 56 => 0xBEAF1D44#32
  | 57 => 0xBF203C85#32
  | 58 => 0x3F7DCF55#32
  | 59 => 0xBECE34D0#32
  | 60 => 0xBF12D5E8#32
  | 61 => 0x3F7F73AF#32
  | 62 => 0xBEEC6A50#32
  | 63 => 0xBF04CE53#32
  | 64 => 0x3F800000#32
  | 65 => 0xBF098C78#32
  | 66 => 0xBED8616C#32
  | 67 => 0x3F7DCF55#32
  | 68 => 0xBF248DBB#32
  | 69 => 0xBE99F61C#32
  | 70 => 0x3F7746EA#32
  | 71 => 0xBF3CBE35#32
  | 72 => 0xBE31D0D4#32
  | 73 => 0x3F6C835E#32
  | 74 => 0xBF51B3F3#32
  | 75 => 0xBD32AA3E#32
  | 76 => 0x3F5DB3D7#32
  | 77 => 0xBF631324#32
  | 78 => 0x3DB27EB6#32
  | 79 => 0x3F4B1934#32
  | 80 => 0xBF708FB2#32
  | 81 => 0x3E5DA259#32
  | 82 => 0x3F3504F3#32
  | 83 => 0xBF79EE89#32
  | 84 => 0x3EAF1D44#32
  | 85 => 0x3F1BD7CA#32
  | 86 => 0xBF7F069E#32
  | 87 => 0x3EEC6A50#32
  | 88 => 0x3F000000#32
  | 89 => 0xBF7FC1A0#32
  | 90 => 0x3F12D5E8#32
  | 91 => 0x3EC3EF15#32
  | 92 => 0xBF7C1C5C#32
  | 93 => 0x3F2CF37B#32
  | 94 => 0x3E8483EE#32
  | 95 => 0xBF7426CB#32
  | 96 => 0x3F441B7D#32
  | 97 => 0x3E05A8A8#32
  | 98 => 0xBF6803CA#32
  | 99 => 0x3F57E880#32
  | 100 => 0x248D3132#32
  | 101 => 0xBF57E880#32
  | 102 => 0x3F6803CA#32
  | 103 => 0xBE05A8A8#32
  | 104 => 0xBF441B7D#32
  | 105 => 0x3F7426CB#32
  | 106 => 0xBE8483EE#32
  | 107 => 0xBF2CF37B#32
  | 108 => 0x3F7C1C5C#32
  | 109 => 0xBEC3EF15#32
  | 110 => 0xBF12D5E8#32
  | 111 => 0x3F7FC1A0#32
  | 112 => 0xBF000000#32
  | 113 => 0xBEEC6A50#32
  | 114 => 0x3F7F069E#32
  | 115 => 0xBF1BD7CA#32
  | 116 => 0xBEAF1D44#32
  | 117 => 0x3F79EE89#32
  | 118 => 0xBF3504F3#32
  | 119 => 0xBE5DA259#32
  | 120 => 0x3F708FB2#32
  | 121 => 0xBF4B1934#32
  | 122 => 0xBDB27EB6#32
  | 123 => 0x3F631324#32
  | 124 => 0xBF5DB3D7#32
  | 125 => 0x3D32AA3E#32
  | 126 => 0x3F51B3F3#32
  | 127 => 0xBF6C835E#32
  | _ => 0#32

noncomputable abbrev lit0t0_221 (i : Nat) : BitVec 32 := match i % 128 with
  | 0 => 0x3E31D0D4#32
  | 1 => 0x3F3CBE35#32
  | 2 => 0xBF7746EA#32
  | 3 => 0x3E99F61C#32
  | 4 => 0x3F248DBB#32
  | 5 => 0xBF7DCF55#32
  | 6 => 0x3ED8616C#32
  | 7 => 0x3F098C78#32
  | 8 => 0xBF800000#32
  | 9 => 0x3F098C78#32
  | 10 => 0x3ED8616C#32
  | 11 => 0xBF7DCF55#32
  | 12 => 0x3F248DBB#32
  | 13 => 0x3E99F61C#32
  | 14 => 0xBF7746EA#32
  | 15 => 0x3F3CBE35#32
  | 16 => 0x3E31D0D4#32
  | 17 => 0xBF6C835E#32
  | 18 => 0x3F51B3F3#32
  | 19 => 0x3D32AA3E#32
  | 20 => 0xBF5DB3D7#32
  | 21 => 0x3F631324#32
  | 22 => 0xBDB27EB6#32
  | 23 => 0xBF4B1934#32
  | 24 => 0x3F708FB2#32
  | 25 => 0xBE5DA259#32
  | 26 => 0xBF3504F3#32
  | 27 => 0x3F79EE89#32
  | 28 => 0xBEAF1D44#32
  | 29 => 0xBF1BD7CA#32
  | 30 => 0x3F7F069E#32
  | 31 => 0xBEEC6A50#32
  | 32 => 0xBF000000#32
  | 33 => 0x3F7FC1A0#32
  | 34 => 0xBF12D5E8#32
  | 35 => 0xBEC3EF15#32
  | 36 => 0x3F7C1C5C#32
  | 37 => 0xBF2CF37B#32
  | 38 => 0xBE8483EE#32
  | 39 => 0x3F7426CB#32
  | 40 => 0xBF441B7D#32
  | 41 => 0xBE05A8A8#32
  | 42 => 0x3F6803CA#32
  | 43 => 0xBF57E880#32
  | 44 => 0xA553C9CA#32
  | 45 => 0x3F57E880#32
  | 46 => 0xBF6803CA#32
  | 47 => 0x3E05A8A8#32
  | 48 => 0x3F441B7D#32
  | 49 => 0xBF7426CB#32
  | 50 => 0x3E8483EE#32
  | 51 => 0x3F2CF37B#32
  | 52 => 0xBF7C1C5C#32
  | 53 => 0x3EC3EF15#32
  | 54 => 0x3F12D5E8#32
  | 55 => 0xBF7FC1A0#32
  | 56 => 0x3F000000#32
  | 57 => 0x3EEC6A50#32
  | 58 => 0xBF7F069E#32
  | 59 => 0x3F1BD7CA#32
  | 60 => 0x3EAF1D44#32
  | 61 => 0xBF79EE89#32
  | 62 => 0x3F3504F3#32
  | 63 => 0x3E5DA259#32
  | 64 => 0xBF708FB2#32
  | 65 => 0x3F4B1934#32
  | 66 => 0x3DB27EB6#32
  | 67 => 0xBF631324#32
  | 68 => 0x3F5DB3D7#32
  | 69 => 0xBD32AA3E#32
  | 70 => 0xBF51B3F3#32
  | 71 => 0x3F6C835E#32
  | 72 => 0xBE31D0D4#32
  | 73 => 0xBF3CBE35#32
  | 74 => 0x3F7746EA#32
  | 75 => 0xBE99F61C#32
  | 76 => 0xBF248DBB#32
  | 77 => 0x3F7DCF55#32
  | 78 => 0xBED8616C#32
  | 79 => 0xBF098C78#32
  | 80 => 0x3F800000#32
  | 81 => 0xBF098C78#32
  | 82 => 0xBED8616C#32
  | 83 => 0x3F7DCF55#32
  | 84 => 0xBF248DBB#32
  | 85 => 0xBE99F61C#32
  | 86 => 0x3F7746EA#32
  | 87 => 0xBF3CBE35#32
  | 88 => 0xBE31D0D4#32
  | 89 => 0x3F6C835E#32
  | 90 => 0xBF51B3F3#32
  | 91 => 0xBD32AA3E#32
  | 92 => 0x3F5DB3D7#32
  | 93 => 0xBF631324#32
  | 94 => 0x3DB27EB6#32
  | 95 => 0x3F4B1934#32
  | 96 => 0xBF708FB2#32
  | 97 => 0x3E5DA259#32
  | 98 => 0x3F3504F3#32
  | 99 => 0xBF79EE89#32
  | 100 => 0x3EAF1D44#32
  | 101 => 0x3F1BD7CA#32
  | 102 => 0xBF7F069E#32
  | 103 => 0x3EEC6A50#32
  | 104 => 0x3F000000#32
  | 105 => 0xBF7FC1A0#32
  | 106 => 0x3F12D5E8#32
  | 107 => 0x3EC3EF15#32
  | 108 => 0xBF7C1C5C#32
  | 109 => 0x3F2CF37B#32
  | 110 => 0x3E8483EE#32
  | 111 => 0xBF7426CB#32
  | 112 => 0x3F441B7D#32
  | 113 => 0x3E05A8A8#32
  | 114 => 0xBF6803CA#32
  | 115 => 0x3F57E880#32
  | 116 => 0x248D3132#32
  | 117 => 0xBF57E880#32
  | 118 => 0x3F6803CA#32
  | 119 => 0xBE05A8A8#32
  | 120 => 0xBF441B7D#32
  | 121 => 0x3F7426CB#32
  | 122 => 0xBE8483EE#32
  | 123 => 0xBF2CF37B#32
  | 124 => 0x3F7C1C5C#32
  | 125 => 0xBEC3EF15#32
  | 126 => 0xBF12D5E8#32
  | 127 => 0x3F7FC1A0#32
  | _ => 0#32

noncomputable abbrev lit0t0_222 (i : Nat) : BitVec 32 := match i % 128 with
  | 0 => 0xBF000000#32
  | 1 => 0xBEEC6A50#32
  | 2 => 0x3F7F069E#32
  | 3 => 0xBF1BD7CA#32
  | 4 => 0xBEAF1D44#32
  | 5 => 0x3F79EE89#32
  | 6 => 0xBF3504F3#32
  | 7 => 0xBE5DA259#32
  | 8 => 0x3F708FB2#32
  | 9 => 0xBF4B1934#32
  | 10 => 0xBDB27EB6#32
  | 11 => 0x3F631324#32
  | 12 => 0xBF5DB3D7#32
  | 13 => 0x3D32AA3E#32
  | 14 => 0x3F51B3F3#32
  | 15 => 0xBF6C835E#32
  | 16 => 0x3E31D0D4#32
  | 17 => 0x3F3CBE35#32
  | 18 => 0xBF7746EA#32
  | 19 => 0x3E99F61C#32
  | 20 => 0x3F248DBB#32
  | 21 => 0xBF7DCF55#32
  | 22 => 0x3ED8616C#32
  | 23 => 0x3F098C78#32
  | 24 => 0xBF800000#32
  | 25 => 0x3F098C78#32
  | 26 => 0x3ED8616C#32
  | 27 => 0xBF7DCF55#32
  | 28 => 0x3F248DBB#32
  | 29 => 0x3E99F61C#32
  | 30 => 0xBF7746EA#32
  | 31 => 0x3F3CBE35#32
  | 32 => 0x3E31D0D4#32
  | 33 => 0xBF6C835E#32
  | 34 => 0x3F51B3F3#32
  | 35 => 0x3D32AA3E#32
  | 36 => 0xBF5DB3D7#32
  | 37 => 0x3F631324#32
  | 38 => 0xBDB27EB6#32
  | 39 => 0xBF4B1934#32
  | 40 => 0x3F708FB2#32
  | 41 => 0xBE5DA259#32
  | 42 => 0xBF3504F3#32
  | 43 => 0x3F79EE89#32
  | 44 => 0xBEAF1D44#32
  | 45 => 0xBF1BD7CA#32
  | 46 => 0x3F7F069E#32
  | 47 => 0xBEEC6A50#32
  | 48 => 0xBF000000#32
  | 49 => 0x3F7FC1A0#32
  | 50 => 0xBF12D5E8#32
  | 51 => 0xBEC3EF15#32
  | 52 => 0x3F7C1C5C#32
  | 53 => 0xBF2CF37B#32
  | 54 => 0xBE8483EE#32
  | 55 => 0x3F7426CB#32
  | 56 => 0xBF441B7D#32
  | 57 => 0xBE05A8A8#32
  | 58 => 0x3F6803CA#32
  | 59 => 0xBF57E880#32
  | 60 => 0xA553C9CA#32
  | 61 => 0x3F57E880#32
  | 62 => 0xBF6803CA#32
  | 63 => 0x3E05A8A8#32
  | 64 => 0x3F441B7D#32
  | 65 => 0xBF7426CB#32
  | 66 => 0x3E8483EE#32
  | 67 => 0x3F2CF37B#32
  | 68 => 0xBF7C1C5C#32
  | 69 => 0x3EC3EF15#32
  | 70 => 0x3F12D5E8#32
  | 71 => 0xBF7FC1A0#32
  | 72 => 0x3F000000#32
  | 73 => 0x3EEC6A50#32
  | 74 => 0xBF7F069E#32
  | 75 => 0x3F1BD7CA#32
  | 76 => 0x3EAF1D44#32
  | 77 => 0xBF79EE89#32
  | 78 => 0x3F3504F3#32
  | 79 => 0x3E5DA259#32
  | 80 => 0xBF708FB2#32
  | 81 => 0x3F4B1934#32
  | 82 => 0x3DB27EB6#32
  | 83 => 0xBF631324#32
  | 84 => 0x3F5DB3D7#32
  | 85 => 0xBD32AA3E#32
  | 86 => 0xBF51B3F3#32
  | 87 => 0x3F6C835E#32
  | 88 => 0xBE31D0D4#32
  | 89 => 0xBF3CBE35#32
  | 90 => 0x3F7746EA#32
  | 91 => 0xBE99F61C#32
  | 92 => 0xBF248DBB#32
  | 93 => 0x3F7DCF55#32
  | 94 => 0xBED8616C#32
  | 95 => 0xBF098C78#32
  | 96 => 0x3F800000#32
  | 97 => 0xBF0E39DA#32
  | 98 => 0xBEC3EF15#32
  | 99 => 0x3F7B14BE#32
  | 100 => 0xBF3504F3#32
  | 101 => 0xBE47C5C2#32
  | 102 => 0x3F6C835E#32
  | 103 => 0xBF54DB31#32
  | 104 => 0xA553C9CA#32
  | 105 => 0x3F54DB31#32
  | 106 => 0xBF6C835E#32
  | 107 => 0x3E47C5C2#32
  | 108 => 0x3F3504F3#32
  | 109 => 0xBF7B14BE#32
  | 110 => 0x3EC3EF15#32
  | 111 => 0x3F0E39DA#32
  | 112 => 0xBF800000#32
  | 113 => 0x3F0E39DA#32
  | 114 => 0x3EC3EF15#32
  | 115 => 0xBF7B14BE#32
  | 116 => 0x3F3504F3#32
  | 117 => 0x3E47C5C2#32
  | 118 => 0xBF6C835E#32
  | 119 => 0x3F54DB31#32
  | 120 => 0x248D3132#32
  | 121 => 0xBF54DB31#32
  | 122 => 0x3F6C835E#32
  | 123 => 0xBE47C5C2#32
  | 124 => 0xBF3504F3#32
  | 125 => 0x3F7B14BE#32
  | 126 => 0xBEC3EF15#32
  | 127 => 0xBF0E39DA#32
  | _ => 0#32

noncomputable abbrev lit0t0_223 (i : Nat) : BitVec 32 := match i % 128 with
  | 0 => 0x3F800000#32
  | 1 => 0xBF0E39DA#32
  | 2 => 0xBEC3EF15#32
  | 3 => 0x3F7B14BE#32
  | 4 => 0xBF3504F3#32
  | 5 => 0xBE47C5C2#32
  | 6 => 0x3F6C835E#32
  | 7 => 0xBF54DB31#32
  | 8 => 0xA553C9CA#32
  | 9 => 0x3F54DB31#32
  | 10 => 0xBF6C835E#32
  | 11 => 0x3E47C5C2#32
  | 12 => 0x3F3504F3#32
  | 13 => 0xBF7B14BE#32
  | 14 => 0x3EC3EF15#32
  | 15 => 0x3F0E39DA#32
  | 16 => 0xBF800000#32
  | 17 => 0x3F0E39DA#32
  | 18 => 0x3EC3EF15#32
  | 19 => 0xBF7B14BE#32
  | 20 => 0x3F3504F3#32
  | 21 => 0x3E47C5C2#32
  | 22 => 0xBF6C835E#32
  | 23 => 0x3F54DB31#32
  | 24 => 0x248D3132#32
  | 25 => 0xBF54DB31#32
  | 26 => 0x3F6C835E#32
  | 27 => 0xBE47C5C2#32
  | 28 => 0xBF3504F3#32
  | 29 => 0x3F7B14BE#32
  | 30 => 0xBEC3EF15#32
  | 31 => 0xBF0E39DA#32
  | 32 => 0x3F800000#32
  | 33 => 0xBF0E39DA#32
  | 34 => 0xBEC3EF15#32
  | 35 => 0x3F7B14BE#32
  | 36 => 0xBF3504F3#32
  | 37 => 0xBE47C5C2#32
  | 38 => 0x3F6C835E#32
  | 39 => 0xBF54DB31#32
  | 40 => 0xA553C9CA#32
  | 41 => 0x3F54DB31#32
  | 42 => 0xBF6C835E#32
  | 43 => 0x3E47C5C2#32
  | 44 => 0x3F3504F3#32
  | 45 => 0xBF7B14BE#32
  | 46 => 0x3EC3EF15#32
  | 47 => 0x3F0E39DA#32
  | 48 => 0xBF800000#32
  | 49 => 0x3F0E39DA#32
  | 50 => 0x3EC3EF15#32
  | 51 => 0xBF7B14BE#32
  | 52 => 0x3F3504F3#32
  | 53 => 0x3E47C5C2#32
  | 54 => 0xBF6C835E#32
  | 55 => 0x3F54DB31#32
  | 56 => 0x248D3132#32
  | 57 => 0xBF54DB31#32
  | 58 => 0x3F6C835E#32
  | 59 => 0xBE47C5C2#32
  | 60 => 0xBF3504F3#32
  | 61 => 0x3F7B14BE#32
  | 62 => 0xBEC3EF15#32
  | 63 => 0xBF0E39DA#32
  | 64 => 0x3F800000#32
  | 65 => 0xBF0E39DA#32
  | 66 => 0xBEC3EF15#32
  | 67 => 0x3F7B14BE#32
  | 68 => 0xBF3504F3#32
  | 69 => 0xBE47C5C2#32
  | 70 => 0x3F6C835E#32
  | 71 => 0xBF54DB31#32
  | 72 => 0xA553C9CA#32
  | 73 => 0x3F54DB31#32
  | 74 => 0xBF6C835E#32
  | 75 => 0x3E47C5C2#32
  | 76 => 0x3F3504F3#32
  | 77 => 0xBF7B14BE#32
  | 78 => 0x3EC3EF15#32
  | 79 => 0x3F0E39DA#32
  | 80 => 0xBF800000#32
  | 81 => 0x3F0E39DA#32
  | 82 => 0x3EC3EF15#32
  | 83 => 0xBF7B14BE#32
  | 84 => 0x3F3504F3#32
  | 85 => 0x3E47C5C2#32
  | 86 => 0xBF6C835E#32
  | 87 => 0x3F54DB31#32
  | 88 => 0x248D3132#32
  | 89 => 0xBF54DB31#32
  | 90 => 0x3F6C835E#32
  | 91 => 0xBE47C5C2#32
  | 92 => 0xBF3504F3#32
  | 93 => 0x3F7B14BE#32
  | 94 => 0xBEC3EF15#32
  | 95 => 0xBF0E39DA#32
  | 96 => 0x3F800000#32
  | 97 => 0xBF0E39DA#32
  | 98 => 0xBEC3EF15#32
  | 99 => 0x3F7B14BE#32
  | 100 => 0xBF3504F3#32
  | 101 => 0xBE47C5C2#32
  | 102 => 0x3F6C835E#32
  | 103 => 0xBF54DB31#32
  | 104 => 0xA553C9CA#32
  | 105 => 0x3F54DB31#32
  | 106 => 0xBF6C835E#32
  | 107 => 0x3E47C5C2#32
  | 108 => 0x3F3504F3#32
  | 109 => 0xBF7B14BE#32
  | 110 => 0x3EC3EF15#32
  | 111 => 0x3F0E39DA#32
  | 112 => 0xBF800000#32
  | 113 => 0x3F0E39DA#32
  | 114 => 0x3EC3EF15#32
  | 115 => 0xBF7B14BE#32
  | 116 => 0x3F3504F3#32
  | 117 => 0x3E47C5C2#32
  | 118 => 0xBF6C835E#32
  | 119 => 0x3F54DB31#32
  | 120 => 0x248D3132#32
  | 121 => 0xBF54DB31#32
  | 122 => 0x3F6C835E#32
  | 123 => 0xBE47C5C2#32
  | 124 => 0xBF3504F3#32
  | 125 => 0x3F7B14BE#32
  | 126 => 0xBEC3EF15#32
  | 127 => 0xBF0E39DA#32
  | _ => 0#32

noncomputable abbrev lit0t0_224 (i : Nat) : BitVec 32 := match i % 128 with
  | 0 => 0x3F800000#32
  | 1 => 0xBF0E39DA#32
  | 2 => 0xBEC3EF15#32
  | 3 => 0x3F7B14BE#32
  | 4 => 0xBF3504F3#32
  | 5 => 0xBE47C5C2#32
  | 6 => 0x3F6C835E#32
  | 7 => 0xBF54DB31#32
  | 8 => 0xA553C9CA#32
  | 9 => 0x3F54DB31#32
  | 10 => 0xBF6C835E#32
  | 11 => 0x3E47C5C2#32
  | 12 => 0x3F3504F3#32
  | 13 => 0xBF7B14BE#32
  | 14 => 0x3EC3EF15#32
  | 15 => 0x3F0E39DA#32
  | 16 => 0xBF800000#32
  | 17 => 0x3F0E39DA#32
  | 18 => 0x3EC3EF15#32
  | 19 => 0xBF7B14BE#32
  | 20 => 0x3F3504F3#32
  | 21 => 0x3E47C5C2#32
  | 22 => 0xBF6C835E#32
  | 23 => 0x3F54DB31#32
  | 24 => 0x248D3132#32
  | 25 => 0xBF54DB31#32
  | 26 => 0x3F6C835E#32
  | 27 => 0xBE47C5C2#32
  | 28 => 0xBF3504F3#32
  | 29 => 0x3F7B14BE#32
  | 30 => 0xBEC3EF15#32
  | 31 => 0xBF0E39DA#32
  | 32 => 0x3F800000#32
  | 33 => 0xBF0E39DA#32
  | 34 => 0xBEC3EF15#32
  | 35 => 0x3F7B14BE#32
  | 36 => 0xBF3504F3#32
  | 37 => 0xBE47C5C2#32
  | 38 => 0x3F6C835E#32
  | 39 => 0xBF54DB31#32
  | 40 => 0xA553C9CA#32
  | 41 => 0x3F54DB31#32
  | 42 => 0xBF6C835E#32
  | 43 => 0x3E47C5C2#32
  | 44 => 0x3F3504F3#32
  | 45 => 0xBF7B14BE#32
  | 46 => 0x3EC3EF15#32
  | 47 => 0x3F0E39DA#32
  | 48 => 0xBF800000#32
  | 49 => 0x3F0E39DA#32
  | 50 => 0x3EC3EF15#32
  | 51 => 0xBF7B14BE#32
  | 52 => 0x3F3504F3#32
  | 53 => 0x3E47C5C2#32
  | 54 => 0xBF6C835E#32
  | 55 => 0x3F54DB31#32
  | 56 => 0x248D3132#32
  | 57 => 0xBF54DB31#32
  | 58 => 0x3F6C835E#32
  | 59 => 0xBE47C5C2#32
  | 60 => 0xBF3504F3#32
  | 61 => 0x3F7B14BE#32
  | 62 => 0xBEC3EF15#32
  | 63 => 0xBF0E39DA#32
  | 64 => 0x3F800000#32
  | 65 => 0xBF0E39DA#32
  | 66 => 0xBEC3EF15#32
  | 67 => 0x3F7B14BE#32
  | 68 => 0xBF3504F3#32
  | 69 => 0xBE47C5C2#32
  | 70 => 0x3F6C835E#32
  | 71 => 0xBF54DB31#32
  | 72 => 0xA553C9CA#32
  | 73 => 0x3F54DB31#32
  | 74 => 0xBF6C835E#32
  | 75 => 0x3E47C5C2#32
  | 76 => 0x3F3504F3#32
  | 77 => 0xBF7B14BE#32
  | 78 => 0x3EC3EF15#32
  | 79 => 0x3F0E39DA#32
  | 80 => 0xBF800000#32
  | 81 => 0x3F0E39DA#32
  | 82 => 0x3EC3EF15#32
  | 83 => 0xBF7B14BE#32
  | 84 => 0x3F3504F3#32
  | 85 => 0x3E47C5C2#32
  | 86 => 0xBF6C835E#32
  | 87 => 0x3F54DB31#32
  | 88 => 0x248D3132#32
  | 89 => 0xBF54DB31#32
  | 90 => 0x3F6C835E#32
  | 91 => 0xBE47C5C2#32
  | 92 => 0xBF3504F3#32
  | 93 => 0x3F7B14BE#32
  | 94 => 0xBEC3EF15#32
  | 95 => 0xBF0E39DA#32
  | 96 => 0x3F800000#32
  | 97 => 0xBF0E39DA#32
  | 98 => 0xBEC3EF15#32
  | 99 => 0x3F7B14BE#32
  | 100 => 0xBF3504F3#32
  | 101 => 0xBE47C5C2#32
  | 102 => 0x3F6C835E#32
  | 103 => 0xBF54DB31#32
  | 104 => 0xA553C9CA#32
  | 105 => 0x3F54DB31#32
  | 106 => 0xBF6C835E#32
  | 107 => 0x3E47C5C2#32
  | 108 => 0x3F3504F3#32
  | 109 => 0xBF7B14BE#32
  | 110 => 0x3EC3EF15#32
  | 111 => 0x3F0E39DA#32
  | 112 => 0xBF800000#32
  | 113 => 0x3F0E39DA#32
  | 114 => 0x3EC3EF15#32
  | 115 => 0xBF7B14BE#32
  | 116 => 0x3F3504F3#32
  | 117 => 0x3E47C5C2#32
  | 118 => 0xBF6C835E#32
  | 119 => 0x3F54DB31#32
  | 120 => 0x248D3132#32
  | 121 => 0xBF54DB31#32
  | 122 => 0x3F6C835E#32
  | 123 => 0xBE47C5C2#32
  | 124 => 0xBF3504F3#32
  | 125 => 0x3F7B14BE#32
  | 126 => 0xBEC3EF15#32
  | 127 => 0xBF0E39DA#32
  | _ => 0#32

noncomputable abbrev lit0t0_225 (i : Nat) : BitVec 32 := match i % 128 with
  | 0 => 0x3F800000#32
  | 1 => 0xBF12D5E8#32
  | 2 => 0xBEAF1D44#32
  | 3 => 0x3F7746EA#32
  | 4 => 0xBF441B7D#32
  | 5 => 0xBDB27EB6#32
  | 6 => 0x3F5DB3D7#32
  | 7 => 0xBF6803CA#32
  | 8 => 0x3E31D0D4#32
  | 9 => 0x3F3504F3#32
  | 10 => 0xBF7C1C5C#32
  | 11 => 0x3ED8616C#32
  | 12 => 0x3F000000#32
  | 13 => 0xBF7F069E#32
  | 14 => 0x3F248DBB#32
  | 15 => 0x3E8483EE#32
  | 16 => 0xBF708FB2#32
  | 17 => 0x3F51B3F3#32
  | 18 => 0x248D3132#32
  | 19 => 0xBF51B3F3#32
  | 20 => 0x3F708FB2#32
  | 21 => 0xBE8483EE#32
  | 22 => 0xBF248DBB#32
  | 23 => 0x3F7F069E#32
  | 24 => 0xBF000000#32
  | 25 => 0xBED8616C#32
  | 26 => 0x3F7C1C5C#32
  | 27 => 0xBF3504F3#32
  | 28 => 0xBE31D0D4#32
  | 29 => 0x3F6803CA#32
  | 30 => 0xBF5DB3D7#32
  | 31 => 0x3DB27EB6#32
  | 32 => 0x3F441B7D#32
  | 33 => 0xBF7746EA#32
  | 34 => 0x3EAF1D44#32
  | 35 => 0x3F12D5E8#32
  | 36 => 0xBF800000#32
  | 37 => 0x3F12D5E8#32
  | 38 => 0x3EAF1D44#32
  | 39 => 0xBF7746EA#32
  | 40 => 0x3F441B7D#32
  | 41 => 0x3DB27EB6#32
  | 42 => 0xBF5DB3D7#32
  | 43 => 0x3F6803CA#32
  | 44 => 0xBE31D0D4#32
  | 45 => 0xBF3504F3#32
  | 46 => 0x3F7C1C5C#32
  | 47 => 0xBED8616C#32
  | 48 => 0xBF000000#32
  | 49 => 0x3F7F069E#32
  | 50 => 0xBF248DBB#32
  | 51 => 0xBE8483EE#32
  | 52 => 0x3F708FB2#32
  | 53 => 0xBF51B3F3#32
  | 54 => 0xA553C9CA#32
  | 55 => 0x3F51B3F3#32
  | 56 => 0xBF708FB2#32
  | 57 => 0x3E8483EE#32
  | 58 => 0x3F248DBB#32
  | 59 => 0xBF7F069E#32
  | 60 => 0x3F000000#32
  | 61 => 0x3ED8616C#32
  | 62 => 0xBF7C1C5C#32
  | 63 => 0x3F3504F3#32
  | 64 => 0x3E31D0D4#32
  | 65 => 0xBF6803CA#32
  | 66 => 0x3F5DB3D7#32
  | 67 => 0xBDB27EB6#32
  | 68 => 0xBF441B7D#32
  | 69 => 0x3F7746EA#32
  | 70 => 0xBEAF1D44#32
  | 71 => 0xBF12D5E8#32
  | 72 => 0x3F800000#32
  | 73 => 0xBF12D5E8#32
  | 74 => 0xBEAF1D44#32
  | 75 => 0x3F7746EA#32
  | 76 => 0xBF441B7D#32
  | 77 => 0xBDB27EB6#32
  | 78 => 0x3F5DB3D7#32
  | 79 => 0xBF6803CA#32
  | 80 => 0x3E31D0D4#32
  | 81 => 0x3F3504F3#32
  | 82 => 0xBF7C1C5C#32
  | 83 => 0x3ED8616C#32
  | 84 => 0x3F000000#32
  | 85 => 0xBF7F069E#32
  | 86 => 0x3F248DBB#32
  | 87 => 0x3E8483EE#32
  | 88 => 0xBF708FB2#32
  | 89 => 0x3F51B3F3#32
  | 90 => 0x248D3132#32
  | 91 => 0xBF51B3F3#32
  | 92 => 0x3F708FB2#32
  | 93 => 0xBE8483EE#32
  | 94 => 0xBF248DBB#32
  | 95 => 0x3F7F069E#32
  | 96 => 0xBF000000#32
  | 97 => 0xBED8616C#32
  | 98 => 0x3F7C1C5C#32
  | 99 => 0xBF3504F3#32
  | 100 => 0xBE31D0D4#32
  | 101 => 0x3F6803CA#32
  | 102 => 0xBF5DB3D7#32
  | 103 => 0x3DB27EB6#32
  | 104 => 0x3F441B7D#32
  | 105 => 0xBF7746EA#32
  | 106 => 0x3EAF1D44#32
  | 107 => 0x3F12D5E8#32
  | 108 => 0xBF800000#32
  | 109 => 0x3F12D5E8#32
  | 110 => 0x3EAF1D44#32
  | 111 => 0xBF7746EA#32
  | 112 => 0x3F441B7D#32
  | 113 => 0x3DB27EB6#32
  | 114 => 0xBF5DB3D7#32
  | 115 => 0x3F6803CA#32
  | 116 => 0xBE31D0D4#32
  | 117 => 0xBF3504F3#32
  | 118 => 0x3F7C1C5C#32
  | 119 => 0xBED8616C#32
  | 120 => 0xBF000000#32
  | 121 => 0x3F7F069E#32
  | 122 => 0xBF248DBB#32
  | 123 => 0xBE8483EE#32
  | 124 => 0x3F708FB2#32
  | 125 => 0xBF51B3F3#32
  | 126 => 0xA553C9CA#32
  | 127 => 0x3F51B3F3#32
  | _ => 0#32

noncomputable abbrev lit0t0_226 (i : Nat) : BitVec 32 := match i % 128 with
  | 0 => 0xBF708FB2#32
  | 1 => 0x3E8483EE#32
  | 2 => 0x3F248DBB#32
  | 3 => 0xBF7F069E#32
  | 4 => 0x3F000000#32
  | 5 => 0x3ED8616C#32
  | 6 => 0xBF7C1C5C#32
  | 7 => 0x3F3504F3#32
  | 8 => 0x3E31D0D4#32
  | 9 => 0xBF6803CA#32
  | 10 => 0x3F5DB3D7#32
  | 11 => 0xBDB27EB6#32
  | 12 => 0xBF441B7D#32
  | 13 => 0x3F7746EA#32
  | 14 => 0xBEAF1D44#32
  | 15 => 0xBF12D5E8#32
  | 16 => 0x3F800000#32
  | 17 => 0xBF12D5E8#32
  | 18 => 0xBEAF1D44#32
  | 19 => 0x3F7746EA#32
  | 20 => 0xBF441B7D#32
  | 21 => 0xBDB27EB6#32
  | 22 => 0x3F5DB3D7#32
  | 23 => 0xBF6803CA#32
  | 24 => 0x3E31D0D4#32
  | 25 => 0x3F3504F3#32
  | 26 => 0xBF7C1C5C#32
  | 27 => 0x3ED8616C#32
  | 28 => 0x3F000000#32
  | 29 => 0xBF7F069E#32
  | 30 => 0x3F248DBB#32
  | 31 => 0x3E8483EE#32
  | 32 => 0xBF708FB2#32
  | 33 => 0x3F51B3F3#32
  | 34 => 0x248D3132#32
  | 35 => 0xBF51B3F3#32
  | 36 => 0x3F708FB2#32
  | 37 => 0xBE8483EE#32
  | 38 => 0xBF248DBB#32
  | 39 => 0x3F7F069E#32
  | 40 => 0xBF000000#32
  | 41 => 0xBED8616C#32
  | 42 => 0x3F7C1C5C#32
  | 43 => 0xBF3504F3#32
  | 44 => 0xBE31D0D4#32
  | 45 => 0x3F6803CA#32
  | 46 => 0xBF5DB3D7#32
  | 47 => 0x3DB27EB6#32
  | 48 => 0x3F441B7D#32
  | 49 => 0xBF7746EA#32
  | 50 => 0x3EAF1D44#32
  | 51 => 0x3F12D5E8#32
  | 52 => 0xBF800000#32
  | 53 => 0x3F12D5E8#32
  | 54 => 0x3EAF1D44#32
  | 55 => 0xBF7746EA#32
  | 56 => 0x3F441B7D#32
  | 57 => 0x3DB27EB6#32
  | 58 => 0xBF5DB3D7#32
  | 59 => 0x3F6803CA#32
  | 60 => 0xBE31D0D4#32
  | 61 => 0xBF3504F3#32
  | 62 => 0x3F7C1C5C#32
  | 63 => 0xBED8616C#32
  | 64 => 0xBF000000#32
  | 65 => 0x3F7F069E#32
  | 66 => 0xBF248DBB#32
  | 67 => 0xBE8483EE#32
  | 68 => 0x3F708FB2#32
  | 69 => 0xBF51B3F3#32
  | 70 => 0xA553C9CA#32
  | 71 => 0x3F51B3F3#32
  | 72 => 0xBF708FB2#32
  | 73 => 0x3E8483EE#32
  | 74 => 0x3F248DBB#32
  | 75 => 0xBF7F069E#32
  | 76 => 0x3F000000#32
  | 77 => 0x3ED8616C#32
  | 78 => 0xBF7C1C5C#32
  | 79 => 0x3F3504F3#32
  | 80 => 0x3E31D0D4#32
  | 81 => 0xBF6803CA#32
  | 82 => 0x3F5DB3D7#32
  | 83 => 0xBDB27EB6#32
  | 84 => 0xBF441B7D#32
  | 85 => 0x3F7746EA#32
  | 86 => 0xBEAF1D44#32
  | 87 => 0xBF12D5E8#32
  | 88 => 0x3F800000#32
  | 89 => 0xBF12D5E8#32
  | 90 => 0xBEAF1D44#32
  | 91 => 0x3F7746EA#32
  | 92 => 0xBF441B7D#32
  | 93 => 0xBDB27EB6#32
  | 94 => 0x3F5DB3D7#32
  | 95 => 0xBF6803CA#32
  | 96 => 0x3E31D0D4#32
  | 97 => 0x3F3504F3#32
  | 98 => 0xBF7C1C5C#32
  | 99 => 0x3ED8616C#32
  | 100 => 0x3F000000#32
  | 101 => 0xBF7F069E#32
  | 102 => 0x3F248DBB#32
  | 103 => 0x3E8483EE#32
  | 104 => 0xBF708FB2#32
  | 105 => 0x3F51B3F3#32
  | 106 => 0x248D3132#32
  | 107 => 0xBF51B3F3#32
  | 108 => 0x3F708FB2#32
  | 109 => 0xBE8483EE#32
  | 110 => 0xBF248DBB#32
  | 111 => 0x3F7F069E#32
  | 112 => 0xBF000000#32
  | 113 => 0xBED8616C#32
  | 114 => 0x3F7C1C5C#32
  | 115 => 0xBF3504F3#32
  | 116 => 0xBE31D0D4#32
  | 117 => 0x3F6803CA#32
  | 118 => 0xBF5DB3D7#32
  | 119 => 0x3DB27EB6#32
  | 120 => 0x3F441B7D#32
  | 121 => 0xBF7746EA#32
  | 122 => 0x3EAF1D44#32
  | 123 => 0x3F12D5E8#32
  | 124 => 0xBF800000#32
  | 125 => 0x3F12D5E8#32
  | 126 => 0x3EAF1D44#32
  | 127 => 0xBF7746EA#32
  | _ => 0#32

noncomputable abbrev lit0t0_227 (i : Nat) : BitVec 32 := match i % 128 with
  | 0 => 0x3F441B7D#32
  | 1 => 0x3DB27EB6#32
  | 2 => 0xBF5DB3D7#32
  | 3 => 0x3F6803CA#32
  | 4 => 0xBE31D0D4#32
  | 5 => 0xBF3504F3#32
  | 6 => 0x3F7C1C5C#32
  | 7 => 0xBED8616C#32
  | 8 => 0xBF000000#32
  | 9 => 0x3F7F069E#32
  | 10 => 0xBF248DBB#32
  | 11 => 0xBE8483EE#32
  | 12 => 0x3F708FB2#32
  | 13 => 0xBF51B3F3#32
  | 14 => 0xA553C9CA#32
  | 15 => 0x3F51B3F3#32
  | 16 => 0xBF708FB2#32
  | 17 => 0x3E8483EE#32
  | 18 => 0x3F248DBB#32
  | 19 => 0xBF7F069E#32
  | 20 => 0x3F000000#32
  | 21 => 0x3ED8616C#32
  | 22 => 0xBF7C1C5C#32
  | 23 => 0x3F3504F3#32
  | 24 => 0x3E31D0D4#32
  | 25 => 0xBF6803CA#32
  | 26 => 0x3F5DB3D7#32
  | 27 => 0xBDB27EB6#32
  | 28 => 0xBF441B7D#32
  | 29 => 0x3F7746EA#32
  | 30 => 0xBEAF1D44#32
  | 31 => 0xBF12D5E8#32
  | 32 => 0x3F800000#32
  | 33 => 0xBF176012#32
  | 34 => 0xBE99F61C#32
  | 35 => 0x3F726A03#32
  | 36 => 0xBF51B3F3#32
  | 37 => 0x3CB2B521#32
  | 38 => 0x3F4B1934#32
  | 39 => 0xBF75C5D4#32
  | 40 => 0x3EAF1D44#32
  | 41 => 0x3F0E39DA#32
  | 42 => 0xBF7FC1A0#32
  | 43 => 0x3F203C85#32
  | 44 => 0x3E8483EE#32
  | 45 => 0xBF6E9811#32
  | 46 => 0x3F57E880#32
  | 47 => 0xBD85F213#32
  | 48 => 0xBF441B7D#32
  | 49 => 0x3F78A9E0#32
  | 50 => 0xBEC3EF15#32
  | 51 => 0xBF04CE53#32
  | 52 => 0x3F7F069E#32
  | 53 => 0xBF28CAE3#32
  | 54 => 0xBE5DA259#32
  | 55 => 0x3F6A51DA#32
  | 56 => 0xBF5DB3D7#32
  | 57 => 0x3DDEF599#32
  | 58 => 0x3F3CBE35#32
  | 59 => 0xBF7B14BE#32
  | 60 => 0x3ED8616C#32
  | 61 => 0x3EF64429#32
  | 62 => 0xBF7DCF55#32
  | 63 => 0x3F310700#32
  | 64 => 0x3E31D0D4#32
  | 65 => 0xBF659974#32
  | 66 => 0x3F631324#32
  | 67 => 0xBE1BC63C#32
  | 68 => 0xBF3504F3#32
  | 69 => 0x3F7D0543#32
  | 70 => 0xBEEC6A50#32
  | 71 => 0xBEE273AA#32
  | 72 => 0x3F7C1C5C#32
  | 73 => 0xBF38ECD8#32
  | 74 => 0xBE05A8A8#32
  | 75 => 0x3F60712A#32
  | 76 => 0xBF6803CA#32
  | 77 => 0x3E47C5C2#32
  | 78 => 0x3F2CF37B#32
  | 79 => 0xBF7E7A7A#32
  | 80 => 0x3F000000#32
  | 81 => 0x3ECE34D0#32
  | 82 => 0xBF79EE89#32
  | 83 => 0x3F407893#32
  | 84 => 0x3DB27EB6#32
  | 85 => 0xBF5ADB81#32
  | 86 => 0x3F6C835E#32
  | 87 => 0xBE7363EE#32
  | 88 => 0xBF248DBB#32
  | 89 => 0x3F7F73AF#32
  | 90 => 0xBF098C78#32
  | 91 => 0xBEB9917B#32
  | 92 => 0x3F7746EA#32
  | 93 => 0xBF47A682#32
  | 94 => 0xBD32AA3E#32
  | 95 => 0x3F54DB31#32
  | 96 => 0xBF708FB2#32
  | 97 => 0x3E8F45C0#32
  | 98 => 0x3F1BD7CA#32
  | 99 => 0xBF7FF067#32
  | 100 => 0x3F12D5E8#32
  | 101 => 0x3EA493B7#32
  | 102 => 0xBF7426CB#32
  | 103 => 0x3F4E7327#32
  | 104 => 0x248D3132#32
  | 105 => 0xBF4E7327#32
  | 106 => 0x3F7426CB#32
  | 107 => 0xBEA493B7#32
  | 108 => 0xBF12D5E8#32
  | 109 => 0x3F7FF067#32
  | 110 => 0xBF1BD7CA#32
  | 111 => 0xBE8F45C0#32
  | 112 => 0x3F708FB2#32
  | 113 => 0xBF54DB31#32
  | 114 => 0x3D32AA3E#32
  | 115 => 0x3F47A682#32
  | 116 => 0xBF7746EA#32
  | 117 => 0x3EB9917B#32
  | 118 => 0x3F098C78#32
  | 119 => 0xBF7F73AF#32
  | 120 => 0x3F248DBB#32
  | 121 => 0x3E7363EE#32
  | 122 => 0xBF6C835E#32
  | 123 => 0x3F5ADB81#32
  | 124 => 0xBDB27EB6#32
  | 125 => 0xBF407893#32
  | 126 => 0x3F79EE89#32
  | 127 => 0xBECE34D0#32
  | _ => 0#32

noncomputable abbrev lit0t0_228 (i : Nat) : BitVec 32 := match i % 128 with
  | 0 => 0xBF000000#32
  | 1 => 0x3F7E7A7A#32
  | 2 => 0xBF2CF37B#32
  | 3 => 0xBE47C5C2#32
  | 4 => 0x3F6803CA#32
  | 5 => 0xBF60712A#32
  | 6 => 0x3E05A8A8#32
  | 7 => 0x3F38ECD8#32
  | 8 => 0xBF7C1C5C#32
  | 9 => 0x3EE273AA#32
  | 10 => 0x3EEC6A50#32
  | 11 => 0xBF7D0543#32
  | 12 => 0x3F3504F3#32
  | 13 => 0x3E1BC63C#32
  | 14 => 0xBF631324#32
  | 15 => 0x3F659974#32
  | 16 => 0xBE31D0D4#32
  | 17 => 0xBF310700#32
  | 18 => 0x3F7DCF55#32
  | 19 => 0xBEF64429#32
  | 20 => 0xBED8616C#32
  | 21 => 0x3F7B14BE#32
  | 22 => 0xBF3CBE35#32
  | 23 => 0xBDDEF599#32
  | 24 => 0x3F5DB3D7#32
  | 25 => 0xBF6A51DA#32
  | 26 => 0x3E5DA259#32
  | 27 => 0x3F28CAE3#32
  | 28 => 0xBF7F069E#32
  | 29 => 0x3F04CE53#32
  | 30 => 0x3EC3EF15#32
  | 31 => 0xBF78A9E0#32
  | 32 => 0x3F441B7D#32
  | 33 => 0x3D85F213#32
  | 34 => 0xBF57E880#32
  | 35 => 0x3F6E9811#32
  | 36 => 0xBE8483EE#32
  | 37 => 0xBF203C85#32
  | 38 => 0x3F7FC1A0#32
  | 39 => 0xBF0E39DA#32
  | 40 => 0xBEAF1D44#32
  | 41 => 0x3F75C5D4#32
  | 42 => 0xBF4B1934#32
  | 43 => 0xBCB2B521#32
  | 44 => 0x3F51B3F3#32
  | 45 => 0xBF726A03#32
  | 46 => 0x3E99F61C#32
  | 47 => 0x3F176012#32
  | 48 => 0xBF800000#32
  | 49 => 0x3F176012#32
  | 50 => 0x3E99F61C#32
  | 51 => 0xBF726A03#32
  | 52 => 0x3F51B3F3#32
  | 53 => 0xBCB2B521#32
  | 54 => 0xBF4B1934#32
  | 55 => 0x3F75C5D4#32
  | 56 => 0xBEAF1D44#32
  | 57 => 0xBF0E39DA#32
  | 58 => 0x3F7FC1A0#32
  | 59 => 0xBF203C85#32
  | 60 => 0xBE8483EE#32
  | 61 => 0x3F6E9811#32
  | 62 => 0xBF57E880#32
  | 63 => 0x3D85F213#32
  | 64 => 0x3F441B7D#32
  | 65 => 0xBF78A9E0#32
  | 66 => 0x3EC3EF15#32
  | 67 => 0x3F04CE53#32
  | 68 => 0xBF7F069E#32
  | 69 => 0x3F28CAE3#32
  | 70 => 0x3E5DA259#32
  | 71 => 0xBF6A51DA#32
  | 72 => 0x3F5DB3D7#32
  | 73 => 0xBDDEF599#32
  | 74 => 0xBF3CBE35#32
  | 75 => 0x3F7B14BE#32
  | 76 => 0xBED8616C#32
  | 77 => 0xBEF64429#32
  | 78 => 0x3F7DCF55#32
  | 79 => 0xBF310700#32
  | 80 => 0xBE31D0D4#32
  | 81 => 0x3F659974#32
  | 82 => 0xBF631324#32
  | 83 => 0x3E1BC63C#32
  | 84 => 0x3F3504F3#32
  | 85 => 0xBF7D0543#32
  | 86 => 0x3EEC6A50#32
  | 87 => 0x3EE273AA#32
  | 88 => 0xBF7C1C5C#32
  | 89 => 0x3F38ECD8#32
  | 90 => 0x3E05A8A8#32
  | 91 => 0xBF60712A#32
  | 92 => 0x3F6803CA#32
  | 93 => 0xBE47C5C2#32
  | 94 => 0xBF2CF37B#32
  | 95 => 0x3F7E7A7A#32
  | 96 => 0xBF000000#32
  | 97 => 0xBECE34D0#32
  | 98 => 0x3F79EE89#32
  | 99 => 0xBF407893#32
  | 100 => 0xBDB27EB6#32
  | 101 => 0x3F5ADB81#32
  | 102 => 0xBF6C835E#32
  | 103 => 0x3E7363EE#32
  | 104 => 0x3F248DBB#32
  | 105 => 0xBF7F73AF#32
  | 106 => 0x3F098C78#32
  | 107 => 0x3EB9917B#32
  | 108 => 0xBF7746EA#32
  | 109 => 0x3F47A682#32
  | 110 => 0x3D32AA3E#32
  | 111 => 0xBF54DB31#32
  | 112 => 0x3F708FB2#32
  | 113 => 0xBE8F45C0#32
  | 114 => 0xBF1BD7CA#32
  | 115 => 0x3F7FF067#32
  | 116 => 0xBF12D5E8#32
  | 117 => 0xBEA493B7#32
  | 118 => 0x3F7426CB#32
  | 119 => 0xBF4E7327#32
  | 120 => 0xA553C9CA#32
  | 121 => 0x3F4E7327#32
  | 122 => 0xBF7426CB#32
  | 123 => 0x3EA493B7#32
  | 124 => 0x3F12D5E8#32
  | 125 => 0xBF7FF067#32
  | 126 => 0x3F1BD7CA#32
  | 127 => 0x3E8F45C0#32
  | _ => 0#32

noncomputable abbrev lit0t0_229 (i : Nat) : BitVec 32 := match i % 128 with
  | 0 => 0xBF708FB2#32
  | 1 => 0x3F54DB31#32
  | 2 => 0xBD32AA3E#32
  | 3 => 0xBF47A682#32
  | 4 => 0x3F7746EA#32
  | 5 => 0xBEB9917B#32
  | 6 => 0xBF098C78#32
  | 7 => 0x3F7F73AF#32
  | 8 => 0xBF248DBB#32
  | 9 => 0xBE7363EE#32
  | 10 => 0x3F6C835E#32
  | 11 => 0xBF5ADB81#32
  | 12 => 0x3DB27EB6#32
  | 13 => 0x3F407893#32
  | 14 => 0xBF79EE89#32
  | 15 => 0x3ECE34D0#32
  | 16 => 0x3F000000#32
  | 17 => 0xBF7E7A7A#32
  | 18 => 0x3F2CF37B#32
  | 19 => 0x3E47C5C2#32
  | 20 => 0xBF6803CA#32
  | 21 => 0x3F60712A#32
  | 22 => 0xBE05A8A8#32
  | 23 => 0xBF38ECD8#32
  | 24 => 0x3F7C1C5C#32
  | 25 => 0xBEE273AA#32
  | 26 => 0xBEEC6A50#32
  | 27 => 0x3F7D0543#32
  | 28 => 0xBF3504F3#32
  | 29 => 0xBE1BC63C#32
  | 30 => 0x3F631324#32
  | 31 => 0xBF659974#32
  | 32 => 0x3E31D0D4#32
  | 33 => 0x3F310700#32
  | 34 => 0xBF7DCF55#32
  | 35 => 0x3EF64429#32
  | 36 => 0x3ED8616C#32
  | 37 => 0xBF7B14BE#32
  | 38 => 0x3F3CBE35#32
  | 39 => 0x3DDEF599#32
  | 40 => 0xBF5DB3D7#32
  | 41 => 0x3F6A51DA#32
  | 42 => 0xBE5DA259#32
  | 43 => 0xBF28CAE3#32
  | 44 => 0x3F7F069E#32
  | 45 => 0xBF04CE53#32
  | 46 => 0xBEC3EF15#32
  | 47 => 0x3F78A9E0#32
  | 48 => 0xBF441B7D#32
  | 49 => 0xBD85F213#32
  | 50 => 0x3F57E880#32
  | 51 => 0xBF6E9811#32
  | 52 => 0x3E8483EE#32
  | 53 => 0x3F203C85#32
  | 54 => 0xBF7FC1A0#32
  | 55 => 0x3F0E39DA#32
  | 56 => 0x3EAF1D44#32
  | 57 => 0xBF75C5D4#32
  | 58 => 0x3F4B1934#32
  | 59 => 0x3CB2B521#32
  | 60 => 0xBF51B3F3#32
  | 61 => 0x3F726A03#32
  | 62 => 0xBE99F61C#32
  | 63 => 0xBF176012#32
  | 64 => 0x3F800000#32
  | 65 => 0xBF1BD7CA#32
  | 66 => 0xBE8483EE#32
  | 67 => 0x3F6C835E#32
  | 68 => 0xBF5DB3D7#32
  | 69 => 0x3E05A8A8#32
  | 70 => 0x3F3504F3#32
  | 71 => 0xBF7DCF55#32
  | 72 => 0x3F000000#32
  | 73 => 0x3EC3EF15#32
  | 74 => 0xBF7746EA#32
  | 75 => 0x3F4B1934#32
  | 76 => 0x248D3132#32
  | 77 => 0xBF4B1934#32
  | 78 => 0x3F7746EA#32
  | 79 => 0xBEC3EF15#32
  | 80 => 0xBF000000#32
  | 81 => 0x3F7DCF55#32
  | 82 => 0xBF3504F3#32
  | 83 => 0xBE05A8A8#32
  | 84 => 0x3F5DB3D7#32
  | 85 => 0xBF6C835E#32
  | 86 => 0x3E8483EE#32
  | 87 => 0x3F1BD7CA#32
  | 88 => 0xBF800000#32
  | 89 => 0x3F1BD7CA#32
  | 90 => 0x3E8483EE#32
  | 91 => 0xBF6C835E#32
  | 92 => 0x3F5DB3D7#32
  | 93 => 0xBE05A8A8#32
  | 94 => 0xBF3504F3#32
  | 95 => 0x3F7DCF55#32
  | 96 => 0xBF000000#32
  | 97 => 0xBEC3EF15#32
  | 98 => 0x3F7746EA#32
  | 99 => 0xBF4B1934#32
  | 100 => 0xA553C9CA#32
  | 101 => 0x3F4B1934#32
  | 102 => 0xBF7746EA#32
  | 103 => 0x3EC3EF15#32
  | 104 => 0x3F000000#32
  | 105 => 0xBF7DCF55#32
  | 106 => 0x3F3504F3#32
  | 107 => 0x3E05A8A8#32
  | 108 => 0xBF5DB3D7#32
  | 109 => 0x3F6C835E#32
  | 110 => 0xBE8483EE#32
  | 111 => 0xBF1BD7CA#32
  | 112 => 0x3F800000#32
  | 113 => 0xBF1BD7CA#32
  | 114 => 0xBE8483EE#32
  | 115 => 0x3F6C835E#32
  | 116 => 0xBF5DB3D7#32
  | 117 => 0x3E05A8A8#32
  | 118 => 0x3F3504F3#32
  | 119 => 0xBF7DCF55#32
  | 120 => 0x3F000000#32
  | 121 => 0x3EC3EF15#32
  | 122 => 0xBF7746EA#32
  | 123 => 0x3F4B1934#32
  | 124 => 0x248D3132#32
  | 125 => 0xBF4B1934#32
  | 126 => 0x3F7746EA#32
  | 127 => 0xBEC3EF15#32
  | _ => 0#32

noncomputable abbrev lit0t0_230 (i : Nat) : BitVec 32 := match i % 128 with
  | 0 => 0xBF000000#32
  | 1 => 0x3F7DCF55#32
  | 2 => 0xBF3504F3#32
  | 3 => 0xBE05A8A8#32
  | 4 => 0x3F5DB3D7#32
  | 5 => 0xBF6C835E#32
  | 6 => 0x3E8483EE#32
  | 7 => 0x3F1BD7CA#32
  | 8 => 0xBF800000#32
  | 9 => 0x3F1BD7CA#32
  | 10 => 0x3E8483EE#32
  | 11 => 0xBF6C835E#32
  | 12 => 0x3F5DB3D7#32
  | 13 => 0xBE05A8A8#32
  | 14 => 0xBF3504F3#32
  | 15 => 0x3F7DCF55#32
  | 16 => 0xBF000000#32
  | 17 => 0xBEC3EF15#32
  | 18 => 0x3F7746EA#32
  | 19 => 0xBF4B1934#32
  | 20 => 0xA553C9CA#32
  | 21 => 0x3F4B1934#32
  | 22 => 0xBF7746EA#32
  | 23 => 0x3EC3EF15#32
  | 24 => 0x3F000000#32
  | 25 => 0xBF7DCF55#32
  | 26 => 0x3F3504F3#32
  | 27 => 0x3E05A8A8#32
  | 28 => 0xBF5DB3D7#32
  | 29 => 0x3F6C835E#32
  | 30 => 0xBE8483EE#32
  | 31 => 0xBF1BD7CA#32
  | 32 => 0x3F800000#32
  | 33 => 0xBF1BD7CA#32
  | 34 => 0xBE8483EE#32
  | 35 => 0x3F6C835E#32
  | 36 => 0xBF5DB3D7#32
  | 37 => 0x3E05A8A8#32
  | 38 => 0x3F3504F3#32
  | 39 => 0xBF7DCF55#32
  | 40 => 0x3F000000#32
  | 41 => 0x3EC3EF15#32
  | 42 => 0xBF7746EA#32
  | 43 => 0x3F4B1934#32
  | 44 => 0x248D3132#32
  | 45 => 0xBF4B1934#32
  | 46 => 0x3F7746EA#32
  | 47 => 0xBEC3EF15#32
  | 48 => 0xBF000000#32
  | 49 => 0x3F7DCF55#32
  | 50 => 0xBF3504F3#32
  | 51 => 0xBE05A8A8#32
  | 52 => 0x3F5DB3D7#32
  | 53 => 0xBF6C835E#32
  | 54 => 0x3E8483EE#32
  | 55 => 0x3F1BD7CA#32
  | 56 => 0xBF800000#32
  | 57 => 0x3F1BD7CA#32
  | 58 => 0x3E8483EE#32
  | 59 => 0xBF6C835E#32
  | 60 => 0x3F5DB3D7#32
  | 61 => 0xBE05A8A8#32
  | 62 => 0xBF3504F3#32
  | 63 => 0x3F7DCF55#32
  | 64 => 0xBF000000#32
  | 65 => 0xBEC3EF15#32
  | 66 => 0x3F7746EA#32
  | 67 => 0xBF4B1934#32
  | 68 => 0xA553C9CA#32
  | 69 => 0x3F4B1934#32
  | 70 => 0xBF7746EA#32
  | 71 => 0x3EC3EF15#32
  | 72 => 0x3F000000#32
  | 73 => 0xBF7DCF55#32
  | 74 => 0x3F3504F3#32
  | 75 => 0x3E05A8A8#32
  | 76 => 0xBF5DB3D7#32
  | 77 => 0x3F6C835E#32
  | 78 => 0xBE8483EE#32
  | 79 => 0xBF1BD7CA#32
  | 80 => 0x3F800000#32
  | 81 => 0xBF1BD7CA#32
  | 82 => 0xBE8483EE#32
  | 83 => 0x3F6C835E#32
  | 84 => 0xBF5DB3D7#32
  | 85 => 0x3E05A8A8#32
  | 86 => 0x3F3504F3#32
  | 87 => 0xBF7DCF55#32
  | 88 => 0x3F000000#32
  | 89 => 0x3EC3EF15#32
  | 90 => 0xBF7746EA#32
  | 91 => 0x3F4B1934#32
  | 92 => 0x248D3132#32
  | 93 => 0xBF4B1934#32
  | 94 => 0x3F7746EA#32
  | 95 => 0xBEC3EF15#32
  | 96 => 0xBF000000#32
  | 97 => 0x3F7DCF55#32
  | 98 => 0xBF3504F3#32
  | 99 => 0xBE05A8A8#32
  | 100 => 0x3F5DB3D7#32
  | 101 => 0xBF6C835E#32
  | 102 => 0x3E8483EE#32
  | 103 => 0x3F1BD7CA#32
  | 104 => 0xBF800000#32
  | 105 => 0x3F1BD7CA#32
  | 106 => 0x3E8483EE#32
  | 107 => 0xBF6C835E#32
  | 108 => 0x3F5DB3D7#32
  | 109 => 0xBE05A8A8#32
  | 110 => 0xBF3504F3#32
  | 111 => 0x3F7DCF55#32
  | 112 => 0xBF000000#32
  | 113 => 0xBEC3EF15#32
  | 114 => 0x3F7746EA#32
  | 115 => 0xBF4B1934#32
  | 116 => 0xA553C9CA#32
  | 117 => 0x3F4B1934#32
  | 118 => 0xBF7746EA#32
  | 119 => 0x3EC3EF15#32
  | 120 => 0x3F000000#32
  | 121 => 0xBF7DCF55#32
  | 122 => 0x3F3504F3#32
  | 123 => 0x3E05A8A8#32
  | 124 => 0xBF5DB3D7#32
  | 125 => 0x3F6C835E#32
  | 126 => 0xBE8483EE#32
  | 127 => 0xBF1BD7CA#32
  | _ => 0#32

noncomputable abbrev lit0t0_231 (i : Nat) : BitVec 32 := match i % 128 with
  | 0 => 0x3F800000#32
  | 1 => 0xBF1BD7CA#32
  | 2 => 0xBE8483EE#32
  | 3 => 0x3F6C835E#32
  | 4 => 0xBF5DB3D7#32
  | 5 => 0x3E05A8A8#32
  | 6 => 0x3F3504F3#32
  | 7 => 0xBF7DCF55#32
  | 8 => 0x3F000000#32
  | 9 => 0x3EC3EF15#32
  | 10 => 0xBF7746EA#32
  | 11 => 0x3F4B1934#32
  | 12 => 0x248D3132#32
  | 13 => 0xBF4B1934#32
  | 14 => 0x3F7746EA#32
  | 15 => 0xBEC3EF15#32
  | 16 => 0xBF000000#32
  | 17 => 0x3F7DCF55#32
  | 18 => 0xBF3504F3#32
  | 19 => 0xBE05A8A8#32
  | 20 => 0x3F5DB3D7#32
  | 21 => 0xBF6C835E#32
  | 22 => 0x3E8483EE#32
  | 23 => 0x3F1BD7CA#32
  | 24 => 0xBF800000#32
  | 25 => 0x3F1BD7CA#32
  | 26 => 0x3E8483EE#32
  | 27 => 0xBF6C835E#32
  | 28 => 0x3F5DB3D7#32
  | 29 => 0xBE05A8A8#32
  | 30 => 0xBF3504F3#32
  | 31 => 0x3F7DCF55#32
  | 32 => 0xBF000000#32
  | 33 => 0xBEC3EF15#32
  | 34 => 0x3F7746EA#32
  | 35 => 0xBF4B1934#32
  | 36 => 0xA553C9CA#32
  | 37 => 0x3F4B1934#32
  | 38 => 0xBF7746EA#32
  | 39 => 0x3EC3EF15#32
  | 40 => 0x3F000000#32
  | 41 => 0xBF7DCF55#32
  | 42 => 0x3F3504F3#32
  | 43 => 0x3E05A8A8#32
  | 44 => 0xBF5DB3D7#32
  | 45 => 0x3F6C835E#32
  | 46 => 0xBE8483EE#32
  | 47 => 0xBF1BD7CA#32
  | 48 => 0x3F800000#32
  | 49 => 0xBF1BD7CA#32
  | 50 => 0xBE8483EE#32
  | 51 => 0x3F6C835E#32
  | 52 => 0xBF5DB3D7#32
  | 53 => 0x3E05A8A8#32
  | 54 => 0x3F3504F3#32
  | 55 => 0xBF7DCF55#32
  | 56 => 0x3F000000#32
  | 57 => 0x3EC3EF15#32
  | 58 => 0xBF7746EA#32
  | 59 => 0x3F4B1934#32
  | 60 => 0x248D3132#32
  | 61 => 0xBF4B1934#32
  | 62 => 0x3F7746EA#32
  | 63 => 0xBEC3EF15#32
  | 64 => 0xBF000000#32
  | 65 => 0x3F7DCF55#32
  | 66 => 0xBF3504F3#32
  | 67 => 0xBE05A8A8#32
  | 68 => 0x3F5DB3D7#32
  | 69 => 0xBF6C835E#32
  | 70 => 0x3E8483EE#32
  | 71 => 0x3F1BD7CA#32
  | 72 => 0xBF800000#32
  | 73 => 0x3F1BD7CA#32
  | 74 => 0x3E8483EE#32
  | 75 => 0xBF6C835E#32
  | 76 => 0x3F5DB3D7#32
  | 77 => 0xBE05A8A8#32
  | 78 => 0xBF3504F3#32
  | 79 => 0x3F7DCF55#32
  | 80 => 0xBF000000#32
  | 81 => 0xBEC3EF15#32
  | 82 => 0x3F7746EA#32
  | 83 => 0xBF4B1934#32
  | 84 => 0xA553C9CA#32
  | 85 => 0x3F4B1934#32
  | 86 => 0xBF7746EA#32
  | 87 => 0x3EC3EF15#32
  | 88 => 0x3F000000#32
  | 89 => 0xBF7DCF55#32
  | 90 => 0x3F3504F3#32
  | 91 => 0x3E05A8A8#32
  | 92 => 0xBF5DB3D7#32
  | 93 => 0x3F6C835E#32
  | 94 => 0xBE8483EE#32
  | 95 => 0xBF1BD7CA#32
  | 96 => 0x3F800000#32
  | 97 => 0xBF203C85#32
  | 98 => 0xBE5DA259#32
  | 99 => 0x3F659974#32
  | 100 => 0xBF6803CA#32
  | 101 => 0x3E7363EE#32
  | 102 => 0x3F1BD7CA#32
  | 103 => 0xBF7FF067#32
  | 104 => 0x3F248DBB#32
  | 105 => 0x3E47C5C2#32
  | 106 => 0xBF631324#32
  | 107 => 0x3F6A51DA#32
  | 108 => 0xBE8483EE#32
  | 109 => 0xBF176012#32
  | 110 => 0x3F7FC1A0#32
  | 111 => 0xBF28CAE3#32
  | 112 => 0xBE31D0D4#32
  | 113 => 0x3F60712A#32
  | 114 => 0xBF6C835E#32
  | 115 => 0x3E8F45C0#32
  | 116 => 0x3F12D5E8#32
  | 117 => 0xBF7F73AF#32
  | 118 => 0x3F2CF37B#32
  | 119 => 0x3E1BC63C#32
  | 120 => 0xBF5DB3D7#32
  | 121 => 0x3F6E9811#32
  | 122 => 0xBE99F61C#32
  | 123 => 0xBF0E39DA#32
  | 124 => 0x3F7F069E#32
  | 125 => 0xBF310700#32
  | 126 => 0xBE05A8A8#32
  | 127 => 0x3F5ADB81#32
  | _ => 0#32

noncomputable abbrev lit0t0_232 (i : Nat) : BitVec 32 := match i % 128 with
  | 0 => 0xBF708FB2#32
  | 1 => 0x3EA493B7#32
  | 2 => 0x3F098C78#32
  | 3 => 0xBF7E7A7A#32
  | 4 => 0x3F3504F3#32
  | 5 => 0x3DDEF599#32
  | 6 => 0xBF57E880#32
  | 7 => 0x3F726A03#32
  | 8 => 0xBEAF1D44#32
  | 9 => 0xBF04CE53#32
  | 10 => 0x3F7DCF55#32
  | 11 => 0xBF38ECD8#32
  | 12 => 0xBDB27EB6#32
  | 13 => 0x3F54DB31#32
  | 14 => 0xBF7426CB#32
  | 15 => 0x3EB9917B#32
  | 16 => 0x3F000000#32
  | 17 => 0xBF7D0543#32
  | 18 => 0x3F3CBE35#32
  | 19 => 0x3D85F213#32
  | 20 => 0xBF51B3F3#32
  | 21 => 0x3F75C5D4#32
  | 22 => 0xBEC3EF15#32
  | 23 => 0xBEF64429#32
  | 24 => 0x3F7C1C5C#32
  | 25 => 0xBF407893#32
  | 26 => 0xBD32AA3E#32
  | 27 => 0x3F4E7327#32
  | 28 => 0xBF7746EA#32
  | 29 => 0x3ECE34D0#32
  | 30 => 0x3EEC6A50#32
  | 31 => 0xBF7B14BE#32
  | 32 => 0x3F441B7D#32
  | 33 => 0x3CB2B521#32
  | 34 => 0xBF4B1934#32
  | 35 => 0x3F78A9E0#32
  | 36 => 0xBED8616C#32
  | 37 => 0xBEE273AA#32
  | 38 => 0x3F79EE89#32
  | 39 => 0xBF47A682#32
  | 40 => 0xA553C9CA#32
  | 41 => 0x3F47A682#32
  | 42 => 0xBF79EE89#32
  | 43 => 0x3EE273AA#32
  | 44 => 0x3ED8616C#32
  | 45 => 0xBF78A9E0#32
  | 46 => 0x3F4B1934#32
  | 47 => 0xBCB2B521#32
  | 48 => 0xBF441B7D#32
  | 49 => 0x3F7B14BE#32
  | 50 => 0xBEEC6A50#32
  | 51 => 0xBECE34D0#32
  | 52 => 0x3F7746EA#32
  | 53 => 0xBF4E7327#32
  | 54 => 0x3D32AA3E#32
  | 55 => 0x3F407893#32
  | 56 => 0xBF7C1C5C#32
  | 57 => 0x3EF64429#32
  | 58 => 0x3EC3EF15#32
  | 59 => 0xBF75C5D4#32
  | 60 => 0x3F51B3F3#32
  | 61 => 0xBD85F213#32
  | 62 => 0xBF3CBE35#32
  | 63 => 0x3F7D0543#32
  | 64 => 0xBF000000#32
  | 65 => 0xBEB9917B#32
  | 66 => 0x3F7426CB#32
  | 67 => 0xBF54DB31#32
  | 68 => 0x3DB27EB6#32
  | 69 => 0x3F38ECD8#32
  | 70 => 0xBF7DCF55#32
  | 71 => 0x3F04CE53#32
  | 72 => 0x3EAF1D44#32
  | 73 => 0xBF726A03#32
  | 74 => 0x3F57E880#32
  | 75 => 0xBDDEF599#32
  | 76 => 0xBF3504F3#32
  | 77 => 0x3F7E7A7A#32
  | 78 => 0xBF098C78#32
  | 79 => 0xBEA493B7#32
  | 80 => 0x3F708FB2#32
  | 81 => 0xBF5ADB81#32
  | 82 => 0x3E05A8A8#32
  | 83 => 0x3F310700#32
  | 84 => 0xBF7F069E#32
  | 85 => 0x3F0E39DA#32
  | 86 => 0x3E99F61C#32
  | 87 => 0xBF6E9811#32
  | 88 => 0x3F5DB3D7#32
  | 89 => 0xBE1BC63C#32
  | 90 => 0xBF2CF37B#32
  | 91 => 0x3F7F73AF#32
  | 92 => 0xBF12D5E8#32
  | 93 => 0xBE8F45C0#32
  | 94 => 0x3F6C835E#32
  | 95 => 0xBF60712A#32
  | 96 => 0x3E31D0D4#32
  | 97 => 0x3F28CAE3#32
  | 98 => 0xBF7FC1A0#32
  | 99 => 0x3F176012#32
  | 100 => 0x3E8483EE#32
  | 101 => 0xBF6A51DA#32
  | 102 => 0x3F631324#32
  | 103 => 0xBE47C5C2#32
  | 104 => 0xBF248DBB#32
  | 105 => 0x3F7FF067#32
  | 106 => 0xBF1BD7CA#32
  | 107 => 0xBE7363EE#32
  | 108 => 0x3F6803CA#32
  | 109 => 0xBF659974#32
  | 110 => 0x3E5DA259#32
  | 111 => 0x3F203C85#32
  | 112 => 0xBF800000#32
  | 113 => 0x3F203C85#32
  | 114 => 0x3E5DA259#32
  | 115 => 0xBF659974#32
  | 116 => 0x3F6803CA#32
  | 117 => 0xBE7363EE#32
  | 118 => 0xBF1BD7CA#32
  | 119 => 0x3F7FF067#32
  | 120 => 0xBF248DBB#32
  | 121 => 0xBE47C5C2#32
  | 122 => 0x3F631324#32
  | 123 => 0xBF6A51DA#32
  | 124 => 0x3E8483EE#32
  | 125 => 0x3F176012#32
  | 126 => 0xBF7FC1A0#32
  | 127 => 0x3F28CAE3#32
  | _ => 0#32

noncomputable abbrev lit0t0_233 (i : Nat) : BitVec 32 := match i % 128 with
  | 0 => 0x3E31D0D4#32
  | 1 => 0xBF60712A#32
  | 2 => 0x3F6C835E#32
  | 3 => 0xBE8F45C0#32
  | 4 => 0xBF12D5E8#32
  | 5 => 0x3F7F73AF#32
  | 6 => 0xBF2CF37B#32
  | 7 => 0xBE1BC63C#32
  | 8 => 0x3F5DB3D7#32
  | 9 => 0xBF6E9811#32
  | 10 => 0x3E99F61C#32
  | 11 => 0x3F0E39DA#32
  | 12 => 0xBF7F069E#32
  | 13 => 0x3F310700#32
  | 14 => 0x3E05A8A8#32
  | 15 => 0xBF5ADB81#32
  | 16 => 0x3F708FB2#32
  | 17 => 0xBEA493B7#32
  | 18 => 0xBF098C78#32
  | 19 => 0x3F7E7A7A#32
  | 20 => 0xBF3504F3#32
  | 21 => 0xBDDEF599#32
  | 22 => 0x3F57E880#32
  | 23 => 0xBF726A03#32
  | 24 => 0x3EAF1D44#32
  | 25 => 0x3F04CE53#32
  | 26 => 0xBF7DCF55#32
  | 27 => 0x3F38ECD8#32
  | 28 => 0x3DB27EB6#32
  | 29 => 0xBF54DB31#32
  | 30 => 0x3F7426CB#32
  | 31 => 0xBEB9917B#32
  | 32 => 0xBF000000#32
  | 33 => 0x3F7D0543#32
  | 34 => 0xBF3CBE35#32
  | 35 => 0xBD85F213#32
  | 36 => 0x3F51B3F3#32
  | 37 => 0xBF75C5D4#32
  | 38 => 0x3EC3EF15#32
  | 39 => 0x3EF64429#32
  | 40 => 0xBF7C1C5C#32
  | 41 => 0x3F407893#32
  | 42 => 0x3D32AA3E#32
  | 43 => 0xBF4E7327#32
  | 44 => 0x3F7746EA#32
  | 45 => 0xBECE34D0#32
  | 46 => 0xBEEC6A50#32
  | 47 => 0x3F7B14BE#32
  | 48 => 0xBF441B7D#32
  | 49 => 0xBCB2B521#32
  | 50 => 0x3F4B1934#32
  | 51 => 0xBF78A9E0#32
  | 52 => 0x3ED8616C#32
  | 53 => 0x3EE273AA#32
  | 54 => 0xBF79EE89#32
  | 55 => 0x3F47A682#32
  | 56 => 0x248D3132#32
  | 57 => 0xBF47A682#32
  | 58 => 0x3F79EE89#32
  | 59 => 0xBEE273AA#32
  | 60 => 0xBED8616C#32
  | 61 => 0x3F78A9E0#32
  | 62 => 0xBF4B1934#32
  | 63 => 0x3CB2B521#32
  | 64 => 0x3F441B7D#32
  | 65 => 0xBF7B14BE#32
  | 66 => 0x3EEC6A50#32
  | 67 => 0x3ECE34D0#32
  | 68 => 0xBF7746EA#32
  | 69 => 0x3F4E7327#32
  | 70 => 0xBD32AA3E#32
  | 71 => 0xBF407893#32
  | 72 => 0x3F7C1C5C#32
  | 73 => 0xBEF64429#32
  | 74 => 0xBEC3EF15#32
  | 75 => 0x3F75C5D4#32
  | 76 => 0xBF51B3F3#32
  | 77 => 0x3D85F213#32
  | 78 => 0x3F3CBE35#32
  | 79 => 0xBF7D0543#32
  | 80 => 0x3F000000#32
  | 81 => 0x3EB9917B#32
  | 82 => 0xBF7426CB#32
  | 83 => 0x3F54DB31#32
  | 84 => 0xBDB27EB6#32
  | 85 => 0xBF38ECD8#32
  | 86 => 0x3F7DCF55#32
  | 87 => 0xBF04CE53#32
  | 88 => 0xBEAF1D44#32
  | 89 => 0x3F726A03#32
  | 90 => 0xBF57E880#32
  | 91 => 0x3DDEF599#32
  | 92 => 0x3F3504F3#32
  | 93 => 0xBF7E7A7A#32
  | 94 => 0x3F098C78#32
  | 95 => 0x3EA493B7#32
  | 96 => 0xBF708FB2#32
  | 97 => 0x3F5ADB81#32
  | 98 => 0xBE05A8A8#32
  | 99 => 0xBF310700#32
  | 100 => 0x3F7F069E#32
  | 101 => 0xBF0E39DA#32
  | 102 => 0xBE99F61C#32
  | 103 => 0x3F6E9811#32
  | 104 => 0xBF5DB3D7#32
  | 105 => 0x3E1BC63C#32
  | 106 => 0x3F2CF37B#32
  | 107 => 0xBF7F73AF#32
  | 108 => 0x3F12D5E8#32
  | 109 => 0x3E8F45C0#32
  | 110 => 0xBF6C835E#32
  | 111 => 0x3F60712A#32
  | 112 => 0xBE31D0D4#32
  | 113 => 0xBF28CAE3#32
  | 114 => 0x3F7FC1A0#32
  | 115 => 0xBF176012#32
  | 116 => 0xBE8483EE#32
  | 117 => 0x3F6A51DA#32
  | 118 => 0xBF631324#32
  | 119 => 0x3E47C5C2#32
  | 120 => 0x3F248DBB#32
  | 121 => 0xBF7FF067#32
  | 122 => 0x3F1BD7CA#32
  | 123 => 0x3E7363EE#32
  | 124 => 0xBF6803CA#32
  | 125 => 0x3F659974#32
  | 126 => 0xBE5DA259#32
  | 127 => 0xBF203C85#32
  | _ => 0#32

noncomputable abbrev lit0t0_234 (i : Nat) : BitVec 32 := match i % 128 with
  | 0 => 0x3F800000#32
  | 1 => 0xBF248DBB#32
  | 2 => 0xBE31D0D4#32
  | 3 => 0x3F5DB3D7#32
  | 4 => 0xBF708FB2#32
  | 5 => 0x3EAF1D44#32
  | 6 => 0x3F000000#32
  | 7 => 0xBF7C1C5C#32
  | 8 => 0x3F441B7D#32
  | 9 => 0x248D3132#32
  | 10 => 0xBF441B7D#32
  | 11 => 0x3F7C1C5C#32
  | 12 => 0xBF000000#32
  | 13 => 0xBEAF1D44#32
  | 14 => 0x3F708FB2#32
  | 15 => 0xBF5DB3D7#32
  | 16 => 0x3E31D0D4#32
  | 17 => 0x3F248DBB#32
  | 18 => 0xBF800000#32
  | 19 => 0x3F248DBB#32
  | 20 => 0x3E31D0D4#32
  | 21 => 0xBF5DB3D7#32
  | 22 => 0x3F708FB2#32
  | 23 => 0xBEAF1D44#32
  | 24 => 0xBF000000#32
  | 25 => 0x3F7C1C5C#32
  | 26 => 0xBF441B7D#32
  | 27 => 0xA553C9CA#32
  | 28 => 0x3F441B7D#32
  | 29 => 0xBF7C1C5C#32
  | 30 => 0x3F000000#32
  | 31 => 0x3EAF1D44#32
  | 32 => 0xBF708FB2#32
  | 33 => 0x3F5DB3D7#32
  | 34 => 0xBE31D0D4#32
  | 35 => 0xBF248DBB#32
  | 36 => 0x3F800000#32
  | 37 => 0xBF248DBB#32
  | 38 => 0xBE31D0D4#32
  | 39 => 0x3F5DB3D7#32
  | 40 => 0xBF708FB2#32
  | 41 => 0x3EAF1D44#32
  | 42 => 0x3F000000#32
  | 43 => 0xBF7C1C5C#32
  | 44 => 0x3F441B7D#32
  | 45 => 0x248D3132#32
  | 46 => 0xBF441B7D#32
  | 47 => 0x3F7C1C5C#32
  | 48 => 0xBF000000#32
  | 49 => 0xBEAF1D44#32
  | 50 => 0x3F708FB2#32
  | 51 => 0xBF5DB3D7#32
  | 52 => 0x3E31D0D4#32
  | 53 => 0x3F248DBB#32
  | 54 => 0xBF800000#32
  | 55 => 0x3F248DBB#32
  | 56 => 0x3E31D0D4#32
  | 57 => 0xBF5DB3D7#32
  | 58 => 0x3F708FB2#32
  | 59 => 0xBEAF1D44#32
  | 60 => 0xBF000000#32
  | 61 => 0x3F7C1C5C#32
  | 62 => 0xBF441B7D#32
  | 63 => 0xA553C9CA#32
  | 64 => 0x3F441B7D#32
  | 65 => 0xBF7C1C5C#32
  | 66 => 0x3F000000#32
  | 67 => 0x3EAF1D44#32
  | 68 => 0xBF708FB2#32
  | 69 => 0x3F5DB3D7#32
  | 70 => 0xBE31D0D4#32
  | 71 => 0xBF248DBB#32
  | 72 => 0x3F800000#32
  | 73 => 0xBF248DBB#32
  | 74 => 0xBE31D0D4#32
  | 75 => 0x3F5DB3D7#32
  | 76 => 0xBF708FB2#32
  | 77 => 0x3EAF1D44#32
  | 78 => 0x3F000000#32
  | 79 => 0xBF7C1C5C#32
  | 80 => 0x3F441B7D#32
  | 81 => 0x248D3132#32
  | 82 => 0xBF441B7D#32
  | 83 => 0x3F7C1C5C#32
  | 84 => 0xBF000000#32
  | 85 => 0xBEAF1D44#32
  | 86 => 0x3F708FB2#32
  | 87 => 0xBF5DB3D7#32
  | 88 => 0x3E31D0D4#32
  | 89 => 0x3F248DBB#32
  | 90 => 0xBF800000#32
  | 91 => 0x3F248DBB#32
  | 92 => 0x3E31D0D4#32
  | 93 => 0xBF5DB3D7#32
  | 94 => 0x3F708FB2#32
  | 95 => 0xBEAF1D44#32
  | 96 => 0xBF000000#32
  | 97 => 0x3F7C1C5C#32
  | 98 => 0xBF441B7D#32
  | 99 => 0xA553C9CA#32
  | 100 => 0x3F441B7D#32
  | 101 => 0xBF7C1C5C#32
  | 102 => 0x3F000000#32
  | 103 => 0x3EAF1D44#32
  | 104 => 0xBF708FB2#32
  | 105 => 0x3F5DB3D7#32
  | 106 => 0xBE31D0D4#32
  | 107 => 0xBF248DBB#32
  | 108 => 0x3F800000#32
  | 109 => 0xBF248DBB#32
  | 110 => 0xBE31D0D4#32
  | 111 => 0x3F5DB3D7#32
  | 112 => 0xBF708FB2#32
  | 113 => 0x3EAF1D44#32
  | 114 => 0x3F000000#32
  | 115 => 0xBF7C1C5C#32
  | 116 => 0x3F441B7D#32
  | 117 => 0x248D3132#32
  | 118 => 0xBF441B7D#32
  | 119 => 0x3F7C1C5C#32
  | 120 => 0xBF000000#32
  | 121 => 0xBEAF1D44#32
  | 122 => 0x3F708FB2#32
  | 123 => 0xBF5DB3D7#32
  | 124 => 0x3E31D0D4#32
  | 125 => 0x3F248DBB#32
  | 126 => 0xBF800000#32
  | 127 => 0x3F248DBB#32
  | _ => 0#32

noncomputable abbrev lit0t0_235 (i : Nat) : BitVec 32 := match i % 128 with
  | 0 => 0x3E31D0D4#32
  | 1 => 0xBF5DB3D7#32
  | 2 => 0x3F708FB2#32
  | 3 => 0xBEAF1D44#32
  | 4 => 0xBF000000#32
  | 5 => 0x3F7C1C5C#32
  | 6 => 0xBF441B7D#32
  | 7 => 0xA553C9CA#32
  | 8 => 0x3F441B7D#32
  | 9 => 0xBF7C1C5C#32
  | 10 => 0x3F000000#32
  | 11 => 0x3EAF1D44#32
  | 12 => 0xBF708FB2#32
  | 13 => 0x3F5DB3D7#32
  | 14 => 0xBE31D0D4#32
  | 15 => 0xBF248DBB#32
  | 16 => 0x3F800000#32
  | 17 => 0xBF248DBB#32
  | 18 => 0xBE31D0D4#32
  | 19 => 0x3F5DB3D7#32
  | 20 => 0xBF708FB2#32
  | 21 => 0x3EAF1D44#32
  | 22 => 0x3F000000#32
  | 23 => 0xBF7C1C5C#32
  | 24 => 0x3F441B7D#32
  | 25 => 0x248D3132#32
  | 26 => 0xBF441B7D#32
  | 27 => 0x3F7C1C5C#32
  | 28 => 0xBF000000#32
  | 29 => 0xBEAF1D44#32
  | 30 => 0x3F708FB2#32
  | 31 => 0xBF5DB3D7#32
  | 32 => 0x3E31D0D4#32
  | 33 => 0x3F248DBB#32
  | 34 => 0xBF800000#32
  | 35 => 0x3F248DBB#32
  | 36 => 0x3E31D0D4#32
  | 37 => 0xBF5DB3D7#32
  | 38 => 0x3F708FB2#32
  | 39 => 0xBEAF1D44#32
  | 40 => 0xBF000000#32
  | 41 => 0x3F7C1C5C#32
  | 42 => 0xBF441B7D#32
  | 43 => 0xA553C9CA#32
  | 44 => 0x3F441B7D#32
  | 45 => 0xBF7C1C5C#32
  | 46 => 0x3F000000#32
  | 47 => 0x3EAF1D44#32
  | 48 => 0xBF708FB2#32
  | 49 => 0x3F5DB3D7#32
  | 50 => 0xBE31D0D4#32
  | 51 => 0xBF248DBB#32
  | 52 => 0x3F800000#32
  | 53 => 0xBF248DBB#32
  | 54 => 0xBE31D0D4#32
  | 55 => 0x3F5DB3D7#32
  | 56 => 0xBF708FB2#32
  | 57 => 0x3EAF1D44#32
  | 58 => 0x3F000000#32
  | 59 => 0xBF7C1C5C#32
  | 60 => 0x3F441B7D#32
  | 61 => 0x248D3132#32
  | 62 => 0xBF441B7D#32
  | 63 => 0x3F7C1C5C#32
  | 64 => 0xBF000000#32
  | 65 => 0xBEAF1D44#32
  | 66 => 0x3F708FB2#32
  | 67 => 0xBF5DB3D7#32
  | 68 => 0x3E31D0D4#32
  | 69 => 0x3F248DBB#32
  | 70 => 0xBF800000#32
  | 71 => 0x3F248DBB#32
  | 72 => 0x3E31D0D4#32
  | 73 => 0xBF5DB3D7#32
  | 74 => 0x3F708FB2#32
  | 75 => 0xBEAF1D44#32
  | 76 => 0xBF000000#32
  | 77 => 0x3F7C1C5C#32
  | 78 => 0xBF441B7D#32
  | 79 => 0xA553C9CA#32
  | 80 => 0x3F441B7D#32
  | 81 => 0xBF7C1C5C#32
  | 82 => 0x3F000000#32
  | 83 => 0x3EAF1D44#32
  | 84 => 0xBF708FB2#32
  | 85 => 0x3F5DB3D7#32
  | 86 => 0xBE31D0D4#32
  | 87 => 0xBF248DBB#32
  | 88 => 0x3F800000#32
  | 89 => 0xBF248DBB#32
  | 90 => 0xBE31D0D4#32
  | 91 => 0x3F5DB3D7#32
  | 92 => 0xBF708FB2#32
  | 93 => 0x3EAF1D44#32
  | 94 => 0x3F000000#32
  | 95 => 0xBF7C1C5C#32
  | 96 => 0x3F441B7D#32
  | 97 => 0x248D3132#32
  | 98 => 0xBF441B7D#32
  | 99 => 0x3F7C1C5C#32
  | 100 => 0xBF000000#32
  | 101 => 0xBEAF1D44#32
  | 102 => 0x3F708FB2#32
  | 103 => 0xBF5DB3D7#32
  | 104 => 0x3E31D0D4#32
  | 105 => 0x3F248DBB#32
  | 106 => 0xBF800000#32
  | 107 => 0x3F248DBB#32
  | 108 => 0x3E31D0D4#32
  | 109 => 0xBF5DB3D7#32
  | 110 => 0x3F708FB2#32
  | 111 => 0xBEAF1D44#32
  | 112 => 0xBF000000#32
  | 113 => 0x3F7C1C5C#32
  | 114 => 0xBF441B7D#32
  | 115 => 0xA553C9CA#32
  | 116 => 0x3F441B7D#32
  | 117 => 0xBF7C1C5C#32
  | 118 => 0x3F000000#32
  | 119 => 0x3EAF1D44#32
  | 120 => 0xBF708FB2#32
  | 121 => 0x3F5DB3D7#32
  | 122 => 0xBE31D0D4#32
  | 123 => 0xBF248DBB#32
  | 124 => 0x3F800000#32
  | 125 => 0xBF248DBB#32
  | 126 => 0xBE31D0D4#32
  | 127 => 0x3F5DB3D7#32
  | _ => 0#32

noncomputable abbrev lit0t0_236 (i : Nat) : BitVec 32 := match i % 128 with
  | 0 => 0xBF708FB2#32
  | 1 => 0x3EAF1D44#32
  | 2 => 0x3F000000#32
  | 3 => 0xBF7C1C5C#32
  | 4 => 0x3F441B7D#32
  | 5 => 0x248D3132#32
  | 6 => 0xBF441B7D#32
  | 7 => 0x3F7C1C5C#32
  | 8 => 0xBF000000#32
  | 9 => 0xBEAF1D44#32
  | 10 => 0x3F708FB2#32
  | 11 => 0xBF5DB3D7#32
  | 12 => 0x3E31D0D4#32
  | 13 => 0x3F248DBB#32
  | 14 => 0xBF800000#32
  | 15 => 0x3F248DBB#32
  | 16 => 0x3E31D0D4#32
  | 17 => 0xBF5DB3D7#32
  | 18 => 0x3F708FB2#32
  | 19 => 0xBEAF1D44#32
  | 20 => 0xBF000000#32
  | 21 => 0x3F7C1C5C#32
  | 22 => 0xBF441B7D#32
  | 23 => 0xA553C9CA#32
  | 24 => 0x3F441B7D#32
  | 25 => 0xBF7C1C5C#32
  | 26 => 0x3F000000#32
  | 27 => 0x3EAF1D44#32
  | 28 => 0xBF708FB2#32
  | 29 => 0x3F5DB3D7#32
  | 30 => 0xBE31D0D4#32
  | 31 => 0xBF248DBB#32
  | 32 => 0x3F800000#32
  | 33 => 0xBF28CAE3#32
  | 34 => 0xBE05A8A8#32
  | 35 => 0x3F54DB31#32
  | 36 => 0xBF7746EA#32
  | 37 => 0x3EE273AA#32
  | 38 => 0x3EC3EF15#32
  | 39 => 0xBF726A03#32
  | 40 => 0x3F5DB3D7#32
  | 41 => 0xBE47C5C2#32
  | 42 => 0xBF1BD7CA#32
  | 43 => 0x3F7F73AF#32
  | 44 => 0xBF3504F3#32
  | 45 => 0xBD85F213#32
  | 46 => 0x3F4B1934#32
  | 47 => 0xBF7B14BE#32
  | 48 => 0x3F000000#32
  | 49 => 0x3EA493B7#32
  | 50 => 0xBF6C835E#32
  | 51 => 0x3F659974#32
  | 52 => 0xBE8483EE#32
  | 53 => 0xBF0E39DA#32
  | 54 => 0x3F7DCF55#32
  | 55 => 0xBF407893#32
  | 56 => 0xA553C9CA#32
  | 57 => 0x3F407893#32
  | 58 => 0xBF7DCF55#32
  | 59 => 0x3F0E39DA#32
  | 60 => 0x3E8483EE#32
  | 61 => 0xBF659974#32
  | 62 => 0x3F6C835E#32
  | 63 => 0xBEA493B7#32
  | 64 => 0xBF000000#32
  | 65 => 0x3F7B14BE#32
  | 66 => 0xBF4B1934#32
  | 67 => 0x3D85F213#32
  | 68 => 0x3F3504F3#32
  | 69 => 0xBF7F73AF#32
  | 70 => 0x3F1BD7CA#32
  | 71 => 0x3E47C5C2#32
  | 72 => 0xBF5DB3D7#32
  | 73 => 0x3F726A03#32
  | 74 => 0xBEC3EF15#32
  | 75 => 0xBEE273AA#32
  | 76 => 0x3F7746EA#32
  | 77 => 0xBF54DB31#32
  | 78 => 0x3E05A8A8#32
  | 79 => 0x3F28CAE3#32
  | 80 => 0xBF800000#32
  | 81 => 0x3F28CAE3#32
  | 82 => 0x3E05A8A8#32
  | 83 => 0xBF54DB31#32
  | 84 => 0x3F7746EA#32
  | 85 => 0xBEE273AA#32
  | 86 => 0xBEC3EF15#32
  | 87 => 0x3F726A03#32
  | 88 => 0xBF5DB3D7#32
  | 89 => 0x3E47C5C2#32
  | 90 => 0x3F1BD7CA#32
  | 91 => 0xBF7F73AF#32
  | 92 => 0x3F3504F3#32
  | 93 => 0x3D85F213#32
  | 94 => 0xBF4B1934#32
  | 95 => 0x3F7B14BE#32
  | 96 => 0xBF000000#32
  | 97 => 0xBEA493B7#32
  | 98 => 0x3F6C835E#32
  | 99 => 0xBF659974#32
  | 100 => 0x3E8483EE#32
  | 101 => 0x3F0E39DA#32
  | 102 => 0xBF7DCF55#32
  | 103 => 0x3F407893#32
  | 104 => 0x248D3132#32
  | 105 => 0xBF407893#32
  | 106 => 0x3F7DCF55#32
  | 107 => 0xBF0E39DA#32
  | 108 => 0xBE8483EE#32
  | 109 => 0x3F659974#32
  | 110 => 0xBF6C835E#32
  | 111 => 0x3EA493B7#32
  | 112 => 0x3F000000#32
  | 113 => 0xBF7B14BE#32
  | 114 => 0x3F4B1934#32
  | 115 => 0xBD85F213#32
  | 116 => 0xBF3504F3#32
  | 117 => 0x3F7F73AF#32
  | 118 => 0xBF1BD7CA#32
  | 119 => 0xBE47C5C2#32
  | 120 => 0x3F5DB3D7#32
  | 121 => 0xBF726A03#32
  | 122 => 0x3EC3EF15#32
  | 123 => 0x3EE273AA#32
  | 124 => 0xBF7746EA#32
  | 125 => 0x3F54DB31#32
  | 126 => 0xBE05A8A8#32
  | 127 => 0xBF28CAE3#32
  | _ => 0#32

noncomputable abbrev lit0t0_237 (i : Nat) : BitVec 32 := match i % 128 with
  | 0 => 0x3F800000#32
  | 1 => 0xBF28CAE3#32
  | 2 => 0xBE05A8A8#32
  | 3 => 0x3F54DB31#32
  | 4 => 0xBF7746EA#32
  | 5 => 0x3EE273AA#32
  | 6 => 0x3EC3EF15#32
  | 7 => 0xBF726A03#32
  | 8 => 0x3F5DB3D7#32
  | 9 => 0xBE47C5C2#32
  | 10 => 0xBF1BD7CA#32
  | 11 => 0x3F7F73AF#32
  | 12 => 0xBF3504F3#32
  | 13 => 0xBD85F213#32
  | 14 => 0x3F4B1934#32
  | 15 => 0xBF7B14BE#32
  | 16 => 0x3F000000#32
  | 17 => 0x3EA493B7#32
  | 18 => 0xBF6C835E#32
  | 19 => 0x3F659974#32
  | 20 => 0xBE8483EE#32
  | 21 => 0xBF0E39DA#32
  | 22 => 0x3F7DCF55#32
  | 23 => 0xBF407893#32
  | 24 => 0xA553C9CA#32
  | 25 => 0x3F407893#32
  | 26 => 0xBF7DCF55#32
  | 27 => 0x3F0E39DA#32
  | 28 => 0x3E8483EE#32
  | 29 => 0xBF659974#32
  | 30 => 0x3F6C835E#32
  | 31 => 0xBEA493B7#32
  | 32 => 0xBF000000#32
  | 33 => 0x3F7B14BE#32
  | 34 => 0xBF4B1934#32
  | 35 => 0x3D85F213#32
  | 36 => 0x3F3504F3#32
  | 37 => 0xBF7F73AF#32
  | 38 => 0x3F1BD7CA#32
  | 39 => 0x3E47C5C2#32
  | 40 => 0xBF5DB3D7#32
  | 41 => 0x3F726A03#32
  | 42 => 0xBEC3EF15#32
  | 43 => 0xBEE273AA#32
  | 44 => 0x3F7746EA#32
  | 45 => 0xBF54DB31#32
  | 46 => 0x3E05A8A8#32
  | 47 => 0x3F28CAE3#32
  | 48 => 0xBF800000#32
  | 49 => 0x3F28CAE3#32
  | 50 => 0x3E05A8A8#32
  | 51 => 0xBF54DB31#32
  | 52 => 0x3F7746EA#32
  | 53 => 0xBEE273AA#32
  | 54 => 0xBEC3EF15#32
  | 55 => 0x3F726A03#32
  | 56 => 0xBF5DB3D7#32
  | 57 => 0x3E47C5C2#32
  | 58 => 0x3F1BD7CA#32
  | 59 => 0xBF7F73AF#32
  | 60 => 0x3F3504F3#32
  | 61 => 0x3D85F213#32
  | 62 => 0xBF4B1934#32
  | 63 => 0x3F7B14BE#32
  | 64 => 0xBF000000#32
  | 65 => 0xBEA493B7#32
  | 66 => 0x3F6C835E#32
  | 67 => 0xBF659974#32
  | 68 => 0x3E8483EE#32
  | 69 => 0x3F0E39DA#32
  | 70 => 0xBF7DCF55#32
  | 71 => 0x3F407893#32
  | 72 => 0x248D3132#32
  | 73 => 0xBF407893#32
  | 74 => 0x3F7DCF55#32
  | 75 => 0xBF0E39DA#32
  | 76 => 0xBE8483EE#32
  | 77 => 0x3F659974#32
  | 78 => 0xBF6C835E#32
  | 79 => 0x3EA493B7#32
  | 80 => 0x3F000000#32
  | 81 => 0xBF7B14BE#32
  | 82 => 0x3F4B1934#32
  | 83 => 0xBD85F213#32
  | 84 => 0xBF3504F3#32
  | 85 => 0x3F7F73AF#32
  | 86 => 0xBF1BD7CA#32
  | 87 => 0xBE47C5C2#32
  | 88 => 0x3F5DB3D7#32
  | 89 => 0xBF726A03#32
  | 90 => 0x3EC3EF15#32
  | 91 => 0x3EE273AA#32
  | 92 => 0xBF7746EA#32
  | 93 => 0x3F54DB31#32
  | 94 => 0xBE05A8A8#32
  | 95 => 0xBF28CAE3#32
  | 96 => 0x3F800000#32
  | 97 => 0xBF28CAE3#32
  | 98 => 0xBE05A8A8#32
  | 99 => 0x3F54DB31#32
  | 100 => 0xBF7746EA#32
  | 101 => 0x3EE273AA#32
  | 102 => 0x3EC3EF15#32
  | 103 => 0xBF726A03#32
  | 104 => 0x3F5DB3D7#32
  | 105 => 0xBE47C5C2#32
  | 106 => 0xBF1BD7CA#32
  | 107 => 0x3F7F73AF#32
  | 108 => 0xBF3504F3#32
  | 109 => 0xBD85F213#32
  | 110 => 0x3F4B1934#32
  | 111 => 0xBF7B14BE#32
  | 112 => 0x3F000000#32
  | 113 => 0x3EA493B7#32
  | 114 => 0xBF6C835E#32
  | 115 => 0x3F659974#32
  | 116 => 0xBE8483EE#32
  | 117 => 0xBF0E39DA#32
  | 118 => 0x3F7DCF55#32
  | 119 => 0xBF407893#32
  | 120 => 0xA553C9CA#32
  | 121 => 0x3F407893#32
  | 122 => 0xBF7DCF55#32
  | 123 => 0x3F0E39DA#32
  | 124 => 0x3E8483EE#32
  | 125 => 0xBF659974#32
  | 126 => 0x3F6C835E#32
  | 127 => 0xBEA493B7#32
  | _ => 0#32

noncomputable abbrev lit0t0_238 (i : Nat) : BitVec 32 := match i % 128 with
  | 0 => 0xBF000000#32
  | 1 => 0x3F7B14BE#32
  | 2 => 0xBF4B1934#32
  | 3 => 0x3D85F213#32
  | 4 => 0x3F3504F3#32
  | 5 => 0xBF7F73AF#32
  | 6 => 0x3F1BD7CA#32
  | 7 => 0x3E47C5C2#32
  | 8 => 0xBF5DB3D7#32
  | 9 => 0x3F726A03#32
  | 10 => 0xBEC3EF15#32
  | 11 => 0xBEE273AA#32
  | 12 => 0x3F7746EA#32
  | 13 => 0xBF54DB31#32
  | 14 => 0x3E05A8A8#32
  | 15 => 0x3F28CAE3#32
  | 16 => 0xBF800000#32
  | 17 => 0x3F28CAE3#32
  | 18 => 0x3E05A8A8#32
  | 19 => 0xBF54DB31#32
  | 20 => 0x3F7746EA#32
  | 21 => 0xBEE273AA#32
  | 22 => 0xBEC3EF15#32
  | 23 => 0x3F726A03#32
  | 24 => 0xBF5DB3D7#32
  | 25 => 0x3E47C5C2#32
  | 26 => 0x3F1BD7CA#32
  | 27 => 0xBF7F73AF#32
  | 28 => 0x3F3504F3#32
  | 29 => 0x3D85F213#32
  | 30 => 0xBF4B1934#32
  | 31 => 0x3F7B14BE#32
  | 32 => 0xBF000000#32
  | 33 => 0xBEA493B7#32
  | 34 => 0x3F6C835E#32
  | 35 => 0xBF659974#32
  | 36 => 0x3E8483EE#32
  | 37 => 0x3F0E39DA#32
  | 38 => 0xBF7DCF55#32
  | 39 => 0x3F407893#32
  | 40 => 0x248D3132#32
  | 41 => 0xBF407893#32
  | 42 => 0x3F7DCF55#32
  | 43 => 0xBF0E39DA#32
  | 44 => 0xBE8483EE#32
  | 45 => 0x3F659974#32
  | 46 => 0xBF6C835E#32
  | 47 => 0x3EA493B7#32
  | 48 => 0x3F000000#32
  | 49 => 0xBF7B14BE#32
  | 50 => 0x3F4B1934#32
  | 51 => 0xBD85F213#32
  | 52 => 0xBF3504F3#32
  | 53 => 0x3F7F73AF#32
  | 54 => 0xBF1BD7CA#32
  | 55 => 0xBE47C5C2#32
  | 56 => 0x3F5DB3D7#32
  | 57 => 0xBF726A03#32
  | 58 => 0x3EC3EF15#32
  | 59 => 0x3EE273AA#32
  | 60 => 0xBF7746EA#32
  | 61 => 0x3F54DB31#32
  | 62 => 0xBE05A8A8#32
  | 63 => 0xBF28CAE3#32
  | 64 => 0x3F800000#32
  | 65 => 0xBF2CF37B#32
  | 66 => 0xBDB27EB6#32
  | 67 => 0x3F4B1934#32
  | 68 => 0xBF7C1C5C#32
  | 69 => 0x3F098C78#32
  | 70 => 0x3E8483EE#32
  | 71 => 0xBF631324#32
  | 72 => 0x3F708FB2#32
  | 73 => 0xBEC3EF15#32
  | 74 => 0xBED8616C#32
  | 75 => 0x3F7426CB#32
  | 76 => 0xBF5DB3D7#32
  | 77 => 0x3E5DA259#32
  | 78 => 0x3F12D5E8#32
  | 79 => 0xBF7DCF55#32
  | 80 => 0x3F441B7D#32
  | 81 => 0xBD32AA3E#32
  | 82 => 0xBF3504F3#32
  | 83 => 0x3F7FC1A0#32
  | 84 => 0xBF248DBB#32
  | 85 => 0xBE05A8A8#32
  | 86 => 0x3F51B3F3#32
  | 87 => 0xBF79EE89#32
  | 88 => 0x3F000000#32
  | 89 => 0x3E99F61C#32
  | 90 => 0xBF6803CA#32
  | 91 => 0x3F6C835E#32
  | 92 => 0xBEAF1D44#32
  | 93 => 0xBEEC6A50#32
  | 94 => 0x3F7746EA#32
  | 95 => 0xBF57E880#32
  | 96 => 0x3E31D0D4#32
  | 97 => 0x3F1BD7CA#32
  | 98 => 0xBF7F069E#32
  | 99 => 0x3F3CBE35#32
  | 100 => 0x248D3132#32
  | 101 => 0xBF3CBE35#32
  | 102 => 0x3F7F069E#32
  | 103 => 0xBF1BD7CA#32
  | 104 => 0xBE31D0D4#32
  | 105 => 0x3F57E880#32
  | 106 => 0xBF7746EA#32
  | 107 => 0x3EEC6A50#32
  | 108 => 0x3EAF1D44#32
  | 109 => 0xBF6C835E#32
  | 110 => 0x3F6803CA#32
  | 111 => 0xBE99F61C#32
  | 112 => 0xBF000000#32
  | 113 => 0x3F79EE89#32
  | 114 => 0xBF51B3F3#32
  | 115 => 0x3E05A8A8#32
  | 116 => 0x3F248DBB#32
  | 117 => 0xBF7FC1A0#32
  | 118 => 0x3F3504F3#32
  | 119 => 0x3D32AA3E#32
  | 120 => 0xBF441B7D#32
  | 121 => 0x3F7DCF55#32
  | 122 => 0xBF12D5E8#32
  | 123 => 0xBE5DA259#32
  | 124 => 0x3F5DB3D7#32
  | 125 => 0xBF7426CB#32
  | 126 => 0x3ED8616C#32
  | 127 => 0x3EC3EF15#32
  | _ => 0#32

noncomputable abbrev lit0t0_239 (i : Nat) : BitVec 32 := match i % 128 with
  | 0 => 0xBF708FB2#32
  | 1 => 0x3F631324#32
  | 2 => 0xBE8483EE#32
  | 3 => 0xBF098C78#32
  | 4 => 0x3F7C1C5C#32
  | 5 => 0xBF4B1934#32
  | 6 => 0x3DB27EB6#32
  | 7 => 0x3F2CF37B#32
  | 8 => 0xBF800000#32
  | 9 => 0x3F2CF37B#32
  | 10 => 0x3DB27EB6#32
  | 11 => 0xBF4B1934#32
  | 12 => 0x3F7C1C5C#32
  | 13 => 0xBF098C78#32
  | 14 => 0xBE8483EE#32
  | 15 => 0x3F631324#32
  | 16 => 0xBF708FB2#32
  | 17 => 0x3EC3EF15#32
  | 18 => 0x3ED8616C#32
  | 19 => 0xBF7426CB#32
  | 20 => 0x3F5DB3D7#32
  | 21 => 0xBE5DA259#32
  | 22 => 0xBF12D5E8#32
  | 23 => 0x3F7DCF55#32
  | 24 => 0xBF441B7D#32
  | 25 => 0x3D32AA3E#32
  | 26 => 0x3F3504F3#32
  | 27 => 0xBF7FC1A0#32
  | 28 => 0x3F248DBB#32
  | 29 => 0x3E05A8A8#32
  | 30 => 0xBF51B3F3#32
  | 31 => 0x3F79EE89#32
  | 32 => 0xBF000000#32
  | 33 => 0xBE99F61C#32
  | 34 => 0x3F6803CA#32
  | 35 => 0xBF6C835E#32
  | 36 => 0x3EAF1D44#32
  | 37 => 0x3EEC6A50#32
  | 38 => 0xBF7746EA#32
  | 39 => 0x3F57E880#32
  | 40 => 0xBE31D0D4#32
  | 41 => 0xBF1BD7CA#32
  | 42 => 0x3F7F069E#32
  | 43 => 0xBF3CBE35#32
  | 44 => 0xA553C9CA#32
  | 45 => 0x3F3CBE35#32
  | 46 => 0xBF7F069E#32
  | 47 => 0x3F1BD7CA#32
  | 48 => 0x3E31D0D4#32
  | 49 => 0xBF57E880#32
  | 50 => 0x3F7746EA#32
  | 51 => 0xBEEC6A50#32
  | 52 => 0xBEAF1D44#32
  | 53 => 0x3F6C835E#32
  | 54 => 0xBF6803CA#32
  | 55 => 0x3E99F61C#32
  | 56 => 0x3F000000#32
  | 57 => 0xBF79EE89#32
  | 58 => 0x3F51B3F3#32
  | 59 => 0xBE05A8A8#32
  | 60 => 0xBF248DBB#32
  | 61 => 0x3F7FC1A0#32
  | 62 => 0xBF3504F3#32
  | 63 => 0xBD32AA3E#32
  | 64 => 0x3F441B7D#32
  | 65 => 0xBF7DCF55#32
  | 66 => 0x3F12D5E8#32
  | 67 => 0x3E5DA259#32
  | 68 => 0xBF5DB3D7#32
  | 69 => 0x3F7426CB#32
  | 70 => 0xBED8616C#32
  | 71 => 0xBEC3EF15#32
  | 72 => 0x3F708FB2#32
  | 73 => 0xBF631324#32
  | 74 => 0x3E8483EE#32
  | 75 => 0x3F098C78#32
  | 76 => 0xBF7C1C5C#32
  | 77 => 0x3F4B1934#32
  | 78 => 0xBDB27EB6#32
  | 79 => 0xBF2CF37B#32
  | 80 => 0x3F800000#32
  | 81 => 0xBF2CF37B#32
  | 82 => 0xBDB27EB6#32
  | 83 => 0x3F4B1934#32
  | 84 => 0xBF7C1C5C#32
  | 85 => 0x3F098C78#32
  | 86 => 0x3E8483EE#32
  | 87 => 0xBF631324#32
  | 88 => 0x3F708FB2#32
  | 89 => 0xBEC3EF15#32
  | 90 => 0xBED8616C#32
  | 91 => 0x3F7426CB#32
  | 92 => 0xBF5DB3D7#32
  | 93 => 0x3E5DA259#32
  | 94 => 0x3F12D5E8#32
  | 95 => 0xBF7DCF55#32
  | 96 => 0x3F441B7D#32
  | 97 => 0xBD32AA3E#32
  | 98 => 0xBF3504F3#32
  | 99 => 0x3F7FC1A0#32
  | 100 => 0xBF248DBB#32
  | 101 => 0xBE05A8A8#32
  | 102 => 0x3F51B3F3#32
  | 103 => 0xBF79EE89#32
  | 104 => 0x3F000000#32
  | 105 => 0x3E99F61C#32
  | 106 => 0xBF6803CA#32
  | 107 => 0x3F6C835E#32
  | 108 => 0xBEAF1D44#32
  | 109 => 0xBEEC6A50#32
  | 110 => 0x3F7746EA#32
  | 111 => 0xBF57E880#32
  | 112 => 0x3E31D0D4#32
  | 113 => 0x3F1BD7CA#32
  | 114 => 0xBF7F069E#32
  | 115 => 0x3F3CBE35#32
  | 116 => 0x248D3132#32
  | 117 => 0xBF3CBE35#32
  | 118 => 0x3F7F069E#32
  | 119 => 0xBF1BD7CA#32
  | 120 => 0xBE31D0D4#32
  | 121 => 0x3F57E880#32
  | 122 => 0xBF7746EA#32
  | 123 => 0x3EEC6A50#32
  | 124 => 0x3EAF1D44#32
  | 125 => 0xBF6C835E#32
  | 126 => 0x3F6803CA#32
  | 127 => 0xBE99F61C#32
  | _ => 0#32

noncomputable abbrev lit0t0_240 (i : Nat) : BitVec 32 := match i % 128 with
  | 0 => 0xBF000000#32
  | 1 => 0x3F79EE89#32
  | 2 => 0xBF51B3F3#32
  | 3 => 0x3E05A8A8#32
  | 4 => 0x3F248DBB#32
  | 5 => 0xBF7FC1A0#32
  | 6 => 0x3F3504F3#32
  | 7 => 0x3D32AA3E#32
  | 8 => 0xBF441B7D#32
  | 9 => 0x3F7DCF55#32
  | 10 => 0xBF12D5E8#32
  | 11 => 0xBE5DA259#32
  | 12 => 0x3F5DB3D7#32
  | 13 => 0xBF7426CB#32
  | 14 => 0x3ED8616C#32
  | 15 => 0x3EC3EF15#32
  | 16 => 0xBF708FB2#32
  | 17 => 0x3F631324#32
  | 18 => 0xBE8483EE#32
  | 19 => 0xBF098C78#32
  | 20 => 0x3F7C1C5C#32
  | 21 => 0xBF4B1934#32
  | 22 => 0x3DB27EB6#32
  | 23 => 0x3F2CF37B#32
  | 24 => 0xBF800000#32
  | 25 => 0x3F2CF37B#32
  | 26 => 0x3DB27EB6#32
  | 27 => 0xBF4B1934#32
  | 28 => 0x3F7C1C5C#32
  | 29 => 0xBF098C78#32
  | 30 => 0xBE8483EE#32
  | 31 => 0x3F631324#32
  | 32 => 0xBF708FB2#32
  | 33 => 0x3EC3EF15#32
  | 34 => 0x3ED8616C#32
  | 35 => 0xBF7426CB#32
  | 36 => 0x3F5DB3D7#32
  | 37 => 0xBE5DA259#32
  | 38 => 0xBF12D5E8#32
  | 39 => 0x3F7DCF55#32
  | 40 => 0xBF441B7D#32
  | 41 => 0x3D32AA3E#32
  | 42 => 0x3F3504F3#32
  | 43 => 0xBF7FC1A0#32
  | 44 => 0x3F248DBB#32
  | 45 => 0x3E05A8A8#32
  | 46 => 0xBF51B3F3#32
  | 47 => 0x3F79EE89#32
  | 48 => 0xBF000000#32
  | 49 => 0xBE99F61C#32
  | 50 => 0x3F6803CA#32
  | 51 => 0xBF6C835E#32
  | 52 => 0x3EAF1D44#32
  | 53 => 0x3EEC6A50#32
  | 54 => 0xBF7746EA#32
  | 55 => 0x3F57E880#32
  | 56 => 0xBE31D0D4#32
  | 57 => 0xBF1BD7CA#32
  | 58 => 0x3F7F069E#32
  | 59 => 0xBF3CBE35#32
  | 60 => 0xA553C9CA#32
  | 61 => 0x3F3CBE35#32
  | 62 => 0xBF7F069E#32
  | 63 => 0x3F1BD7CA#32
  | 64 => 0x3E31D0D4#32
  | 65 => 0xBF57E880#32
  | 66 => 0x3F7746EA#32
  | 67 => 0xBEEC6A50#32
  | 68 => 0xBEAF1D44#32
  | 69 => 0x3F6C835E#32
  | 70 => 0xBF6803CA#32
  | 71 => 0x3E99F61C#32
  | 72 => 0x3F000000#32
  | 73 => 0xBF79EE89#32
  | 74 => 0x3F51B3F3#32
  | 75 => 0xBE05A8A8#32
  | 76 => 0xBF248DBB#32
  | 77 => 0x3F7FC1A0#32
  | 78 => 0xBF3504F3#32
  | 79 => 0xBD32AA3E#32
  | 80 => 0x3F441B7D#32
  | 81 => 0xBF7DCF55#32
  | 82 => 0x3F12D5E8#32
  | 83 => 0x3E5DA259#32
  | 84 => 0xBF5DB3D7#32
  | 85 => 0x3F7426CB#32
  | 86 => 0xBED8616C#32
  | 87 => 0xBEC3EF15#32
  | 88 => 0x3F708FB2#32
  | 89 => 0xBF631324#32
  | 90 => 0x3E8483EE#32
  | 91 => 0x3F098C78#32
  | 92 => 0xBF7C1C5C#32
  | 93 => 0x3F4B1934#32
  | 94 => 0xBDB27EB6#32
  | 95 => 0xBF2CF37B#32
  | 96 => 0x3F800000#32
  | 97 => 0xBF310700#32
  | 98 => 0xBD32AA3E#32
  | 99 => 0x3F407893#32
  | 100 => 0xBF7F069E#32
  | 101 => 0x3F203C85#32
  | 102 => 0x3E05A8A8#32
  | 103 => 0xBF4E7327#32
  | 104 => 0x3F7C1C5C#32
  | 105 => 0xBF0E39DA#32
  | 106 => 0xBE5DA259#32
  | 107 => 0x3F5ADB81#32
  | 108 => 0xBF7746EA#32
  | 109 => 0x3EF64429#32
  | 110 => 0x3E99F61C#32
  | 111 => 0xBF659974#32
  | 112 => 0x3F708FB2#32
  | 113 => 0xBECE34D0#32
  | 114 => 0xBEC3EF15#32
  | 115 => 0x3F6E9811#32
  | 116 => 0xBF6803CA#32
  | 117 => 0x3EA493B7#32
  | 118 => 0x3EEC6A50#32
  | 119 => 0xBF75C5D4#32
  | 120 => 0x3F5DB3D7#32
  | 121 => 0xBE7363EE#32
  | 122 => 0xBF098C78#32
  | 123 => 0x3F7B14BE#32
  | 124 => 0xBF51B3F3#32
  | 125 => 0x3E1BC63C#32
  | 126 => 0x3F1BD7CA#32
  | 127 => 0xBF7E7A7A#32
  | _ => 0#32

noncomputable abbrev lit0t0_241 (i : Nat) : BitVec 32 := match i % 128 with
  | 0 => 0x3F441B7D#32
  | 1 => 0xBD85F213#32
  | 2 => 0xBF2CF37B#32
  | 3 => 0x3F7FF067#32
  | 4 => 0xBF3504F3#32
  | 5 => 0xBCB2B521#32
  | 6 => 0x3F3CBE35#32
  | 7 => 0xBF7F73AF#32
  | 8 => 0x3F248DBB#32
  | 9 => 0x3DDEF599#32
  | 10 => 0xBF4B1934#32
  | 11 => 0x3F7D0543#32
  | 12 => 0xBF12D5E8#32
  | 13 => 0xBE47C5C2#32
  | 14 => 0x3F57E880#32
  | 15 => 0xBF78A9E0#32
  | 16 => 0x3F000000#32
  | 17 => 0x3E8F45C0#32
  | 18 => 0xBF631324#32
  | 19 => 0x3F726A03#32
  | 20 => 0xBED8616C#32
  | 21 => 0xBEB9917B#32
  | 22 => 0x3F6C835E#32
  | 23 => 0xBF6A51DA#32
  | 24 => 0x3EAF1D44#32
  | 25 => 0x3EE273AA#32
  | 26 => 0xBF7426CB#32
  | 27 => 0x3F60712A#32
  | 28 => 0xBE8483EE#32
  | 29 => 0xBF04CE53#32
  | 30 => 0x3F79EE89#32
  | 31 => 0xBF54DB31#32
  | 32 => 0x3E31D0D4#32
  | 33 => 0x3F176012#32
  | 34 => 0xBF7DCF55#32
  | 35 => 0x3F47A682#32
  | 36 => 0xBDB27EB6#32
  | 37 => 0xBF28CAE3#32
  | 38 => 0x3F7FC1A0#32
  | 39 => 0xBF38ECD8#32
  | 40 => 0xA553C9CA#32
  | 41 => 0x3F38ECD8#32
  | 42 => 0xBF7FC1A0#32
  | 43 => 0x3F28CAE3#32
  | 44 => 0x3DB27EB6#32
  | 45 => 0xBF47A682#32
  | 46 => 0x3F7DCF55#32
  | 47 => 0xBF176012#32
  | 48 => 0xBE31D0D4#32
  | 49 => 0x3F54DB31#32
  | 50 => 0xBF79EE89#32
  | 51 => 0x3F04CE53#32
  | 52 => 0x3E8483EE#32
  | 53 => 0xBF60712A#32
  | 54 => 0x3F7426CB#32
  | 55 => 0xBEE273AA#32
  | 56 => 0xBEAF1D44#32
  | 57 => 0x3F6A51DA#32
  | 58 => 0xBF6C835E#32
  | 59 => 0x3EB9917B#32
  | 60 => 0x3ED8616C#32
  | 61 => 0xBF726A03#32
  | 62 => 0x3F631324#32
  | 63 => 0xBE8F45C0#32
  | 64 => 0xBF000000#32
  | 65 => 0x3F78A9E0#32
  | 66 => 0xBF57E880#32
  | 67 => 0x3E47C5C2#32
  | 68 => 0x3F12D5E8#32
  | 69 => 0xBF7D0543#32
  | 70 => 0x3F4B1934#32
  | 71 => 0xBDDEF599#32
  | 72 => 0xBF248DBB#32
  | 73 => 0x3F7F73AF#32
  | 74 => 0xBF3CBE35#32
  | 75 => 0x3CB2B521#32
  | 76 => 0x3F3504F3#32
  | 77 => 0xBF7FF067#32
  | 78 => 0x3F2CF37B#32
  | 79 => 0x3D85F213#32
  | 80 => 0xBF441B7D#32
  | 81 => 0x3F7E7A7A#32
  | 82 => 0xBF1BD7CA#32
  | 83 => 0xBE1BC63C#32
  | 84 => 0x3F51B3F3#32
  | 85 => 0xBF7B14BE#32
  | 86 => 0x3F098C78#32
  | 87 => 0x3E7363EE#32
  | 88 => 0xBF5DB3D7#32
  | 89 => 0x3F75C5D4#32
  | 90 => 0xBEEC6A50#32
  | 91 => 0xBEA493B7#32
  | 92 => 0x3F6803CA#32
  | 93 => 0xBF6E9811#32
  | 94 => 0x3EC3EF15#32
  | 95 => 0x3ECE34D0#32
  | 96 => 0xBF708FB2#32
  | 97 => 0x3F659974#32
  | 98 => 0xBE99F61C#32
  | 99 => 0xBEF64429#32
  | 100 => 0x3F7746EA#32
  | 101 => 0xBF5ADB81#32
  | 102 => 0x3E5DA259#32
  | 103 => 0x3F0E39DA#32
  | 104 => 0xBF7C1C5C#32
  | 105 => 0x3F4E7327#32
  | 106 => 0xBE05A8A8#32
  | 107 => 0xBF203C85#32
  | 108 => 0x3F7F069E#32
  | 109 => 0xBF407893#32
  | 110 => 0x3D32AA3E#32
  | 111 => 0x3F310700#32
  | 112 => 0xBF800000#32
  | 113 => 0x3F310700#32
  | 114 => 0x3D32AA3E#32
  | 115 => 0xBF407893#32
  | 116 => 0x3F7F069E#32
  | 117 => 0xBF203C85#32
  | 118 => 0xBE05A8A8#32
  | 119 => 0x3F4E7327#32
  | 120 => 0xBF7C1C5C#32
  | 121 => 0x3F0E39DA#32
  | 122 => 0x3E5DA259#32
  | 123 => 0xBF5ADB81#32
  | 124 => 0x3F7746EA#32
  | 125 => 0xBEF64429#32
  | 126 => 0xBE99F61C#32
  | 127 => 0x3F659974#32
  | _ => 0#32

noncomputable abbrev lit0t0_242 (i : Nat) : BitVec 32 := match i % 128 with
  | 0 => 0xBF708FB2#32
  | 1 => 0x3ECE34D0#32
  | 2 => 0x3EC3EF15#32
  | 3 => 0xBF6E9811#32
  | 4 => 0x3F6803CA#32
  | 5 => 0xBEA493B7#32
  | 6 => 0xBEEC6A50#32
  | 7 => 0x3F75C5D4#32
  | 8 => 0xBF5DB3D7#32
  | 9 => 0x3E7363EE#32
  | 10 => 0x3F098C78#32
  | 11 => 0xBF7B14BE#32
  | 12 => 0x3F51B3F3#32
  | 13 => 0xBE1BC63C#32
  | 14 => 0xBF1BD7CA#32
  | 15 => 0x3F7E7A7A#32
  | 16 => 0xBF441B7D#32
  | 17 => 0x3D85F213#32
  | 18 => 0x3F2CF37B#32
  | 19 => 0xBF7FF067#32
  | 20 => 0x3F3504F3#32
  | 21 => 0x3CB2B521#32
  | 22 => 0xBF3CBE35#32
  | 23 => 0x3F7F73AF#32
  | 24 => 0xBF248DBB#32
  | 25 => 0xBDDEF599#32
  | 26 => 0x3F4B1934#32
  | 27 => 0xBF7D0543#32
  | 28 => 0x3F12D5E8#32
  | 29 => 0x3E47C5C2#32
  | 30 => 0xBF57E880#32
  | 31 => 0x3F78A9E0#32
  | 32 => 0xBF000000#32
  | 33 => 0xBE8F45C0#32
  | 34 => 0x3F631324#32
  | 35 => 0xBF726A03#32
  | 36 => 0x3ED8616C#32
  | 37 => 0x3EB9917B#32
  | 38 => 0xBF6C835E#32
  | 39 => 0x3F6A51DA#32
  | 40 => 0xBEAF1D44#32
  | 41 => 0xBEE273AA#32
  | 42 => 0x3F7426CB#32
  | 43 => 0xBF60712A#32
  | 44 => 0x3E8483EE#32
  | 45 => 0x3F04CE53#32
  | 46 => 0xBF79EE89#32
  | 47 => 0x3F54DB31#32
  | 48 => 0xBE31D0D4#32
  | 49 => 0xBF176012#32
  | 50 => 0x3F7DCF55#32
  | 51 => 0xBF47A682#32
  | 52 => 0x3DB27EB6#32
  | 53 => 0x3F28CAE3#32
  | 54 => 0xBF7FC1A0#32
  | 55 => 0x3F38ECD8#32
  | 56 => 0x248D3132#32
  | 57 => 0xBF38ECD8#32
  | 58 => 0x3F7FC1A0#32
  | 59 => 0xBF28CAE3#32
  | 60 => 0xBDB27EB6#32
  | 61 => 0x3F47A682#32
  | 62 => 0xBF7DCF55#32
  | 63 => 0x3F176012#32
  | 64 => 0x3E31D0D4#32
  | 65 => 0xBF54DB31#32
  | 66 => 0x3F79EE89#32
  | 67 => 0xBF04CE53#32
  | 68 => 0xBE8483EE#32
  | 69 => 0x3F60712A#32
  | 70 => 0xBF7426CB#32
  | 71 => 0x3EE273AA#32
  | 72 => 0x3EAF1D44#32
  | 73 => 0xBF6A51DA#32
  | 74 => 0x3F6C835E#32
  | 75 => 0xBEB9917B#32
  | 76 => 0xBED8616C#32
  | 77 => 0x3F726A03#32
  | 78 => 0xBF631324#32
  | 79 => 0x3E8F45C0#32
  | 80 => 0x3F000000#32
  | 81 => 0xBF78A9E0#32
  | 82 => 0x3F57E880#32
  | 83 => 0xBE47C5C2#32
  | 84 => 0xBF12D5E8#32
  | 85 => 0x3F7D0543#32
  | 86 => 0xBF4B1934#32
  | 87 => 0x3DDEF599#32
  | 88 => 0x3F248DBB#32
  | 89 => 0xBF7F73AF#32
  | 90 => 0x3F3CBE35#32
  | 91 => 0xBCB2B521#32
  | 92 => 0xBF3504F3#32
  | 93 => 0x3F7FF067#32
  | 94 => 0xBF2CF37B#32
  | 95 => 0xBD85F213#32
  | 96 => 0x3F441B7D#32
  | 97 => 0xBF7E7A7A#32
  | 98 => 0x3F1BD7CA#32
  | 99 => 0x3E1BC63C#32
  | 100 => 0xBF51B3F3#32
  | 101 => 0x3F7B14BE#32
  | 102 => 0xBF098C78#32
  | 103 => 0xBE7363EE#32
  | 104 => 0x3F5DB3D7#32
  | 105 => 0xBF75C5D4#32
  | 106 => 0x3EEC6A50#32
  | 107 => 0x3EA493B7#32
  | 108 => 0xBF6803CA#32
  | 109 => 0x3F6E9811#32
  | 110 => 0xBEC3EF15#32
  | 111 => 0xBECE34D0#32
  | 112 => 0x3F708FB2#32
  | 113 => 0xBF659974#32
  | 114 => 0x3E99F61C#32
  | 115 => 0x3EF64429#32
  | 116 => 0xBF7746EA#32
  | 117 => 0x3F5ADB81#32
  | 118 => 0xBE5DA259#32
  | 119 => 0xBF0E39DA#32
  | 120 => 0x3F7C1C5C#32
  | 121 => 0xBF4E7327#32
  | 122 => 0x3E05A8A8#32
  | 123 => 0x3F203C85#32
  | 124 => 0xBF7F069E#32
  | 125 => 0x3F407893#32
  | 126 => 0xBD32AA3E#32
  | 127 => 0xBF310700#32
  | _ => 0#32

noncomputable abbrev lit0t0_243 (i : Nat) : BitVec 32 := match i % 128 with
  | 0 => 0x3F800000#32
  | 1 => 0xBF3504F3#32
  | 2 => 0xA553C9CA#32
  | 3 => 0x3F3504F3#32
  | 4 => 0xBF800000#32
  | 5 => 0x3F3504F3#32
  | 6 => 0x248D3132#32
  | 7 => 0xBF3504F3#32
  | 8 => 0x3F800000#32
  | 9 => 0xBF3504F3#32
  | 10 => 0xA553C9CA#32
  | 11 => 0x3F3504F3#32
  | 12 => 0xBF800000#32
  | 13 => 0x3F3504F3#32
  | 14 => 0x248D3132#32
  | 15 => 0xBF3504F3#32
  | 16 => 0x3F800000#32
  | 17 => 0xBF3504F3#32
  | 18 => 0xA553C9CA#32
  | 19 => 0x3F3504F3#32
  | 20 => 0xBF800000#32
  | 21 => 0x3F3504F3#32
  | 22 => 0x248D3132#32
  | 23 => 0xBF3504F3#32
  | 24 => 0x3F800000#32
  | 25 => 0xBF3504F3#32
  | 26 => 0xA553C9CA#32
  | 27 => 0x3F3504F3#32
  | 28 => 0xBF800000#32
  | 29 => 0x3F3504F3#32
  | 30 => 0x248D3132#32
  | 31 => 0xBF3504F3#32
  | 32 => 0x3F800000#32
  | 33 => 0xBF3504F3#32
  | 34 => 0xA553C9CA#32
  | 35 => 0x3F3504F3#32
  | 36 => 0xBF800000#32
  | 37 => 0x3F3504F3#32
  | 38 => 0x248D3132#32
  | 39 => 0xBF3504F3#32
  | 40 => 0x3F800000#32
  | 41 => 0xBF3504F3#32
  | 42 => 0xA553C9CA#32
  | 43 => 0x3F3504F3#32
  | 44 => 0xBF800000#32
  | 45 => 0x3F3504F3#32
  | 46 => 0x248D3132#32
  | 47 => 0xBF3504F3#32
  | 48 => 0x3F800000#32
  | 49 => 0xBF3504F3#32
  | 50 => 0xA553C9CA#32
  | 51 => 0x3F3504F3#32
  | 52 => 0xBF800000#32
  | 53 => 0x3F3504F3#32
  | 54 => 0x248D3132#32
  | 55 => 0xBF3504F3#32
  | 56 => 0x3F800000#32
  | 57 => 0xBF3504F3#32
  | 58 => 0xA553C9CA#32
  | 59 => 0x3F3504F3#32
  | 60 => 0xBF800000#32
  | 61 => 0x3F3504F3#32
  | 62 => 0x248D3132#32
  | 63 => 0xBF3504F3#32
  | 64 => 0x3F800000#32
  | 65 => 0xBF3504F3#32
  | 66 => 0xA553C9CA#32
  | 67 => 0x3F3504F3#32
  | 68 => 0xBF800000#32
  | 69 => 0x3F3504F3#32
  | 70 => 0x248D3132#32
  | 71 => 0xBF3504F3#32
  | 72 => 0x3F800000#32
  | 73 => 0xBF3504F3#32
  | 74 => 0xA553C9CA#32
  | 75 => 0x3F3504F3#32
  | 76 => 0xBF800000#32
  | 77 => 0x3F3504F3#32
  | 78 => 0x248D3132#32
  | 79 => 0xBF3504F3#32
  | 80 => 0x3F800000#32
  | 81 => 0xBF3504F3#32
  | 82 => 0xA553C9CA#32
  | 83 => 0x3F3504F3#32
  | 84 => 0xBF800000#32
  | 85 => 0x3F3504F3#32
  | 86 => 0x248D3132#32
  | 87 => 0xBF3504F3#32
  | 88 => 0x3F800000#32
  | 89 => 0xBF3504F3#32
  | 90 => 0xA553C9CA#32
  | 91 => 0x3F3504F3#32
  | 92 => 0xBF800000#32
  | 93 => 0x3F3504F3#32
  | 94 => 0x248D3132#32
  | 95 => 0xBF3504F3#32
  | 96 => 0x3F800000#32
  | 97 => 0xBF3504F3#32
  | 98 => 0xA553C9CA#32
  | 99 => 0x3F3504F3#32
  | 100 => 0xBF800000#32
  | 101 => 0x3F3504F3#32
  | 102 => 0x248D3132#32
  | 103 => 0xBF3504F3#32
  | 104 => 0x3F800000#32
  | 105 => 0xBF3504F3#32
  | 106 => 0xA553C9CA#32
  | 107 => 0x3F3504F3#32
  | 108 => 0xBF800000#32
  | 109 => 0x3F3504F3#32
  | 110 => 0x248D3132#32
  | 111 => 0xBF3504F3#32
  | 112 => 0x3F800000#32
  | 113 => 0xBF3504F3#32
  | 114 => 0xA553C9CA#32
  | 115 => 0x3F3504F3#32
  | 116 => 0xBF800000#32
  | 117 => 0x3F3504F3#32
  | 118 => 0x248D3132#32
  | 119 => 0xBF3504F3#32
  | 120 => 0x3F800000#32
  | 121 => 0xBF3504F3#32
  | 122 => 0xA553C9CA#32
  | 123 => 0x3F3504F3#32
  | 124 => 0xBF800000#32
  | 125 => 0x3F3504F3#32
  | 126 => 0x248D3132#32
  | 127 => 0xBF3504F3#32
  | _ => 0#32

noncomputable abbrev lit0t0_244 (i : Nat) : BitVec 32 := match i % 128 with
  | 0 => 0x3F800000#32
  | 1 => 0xBF3504F3#32
  | 2 => 0xA553C9CA#32
  | 3 => 0x3F3504F3#32
  | 4 => 0xBF800000#32
  | 5 => 0x3F3504F3#32
  | 6 => 0x248D3132#32
  | 7 => 0xBF3504F3#32
  | 8 => 0x3F800000#32
  | 9 => 0xBF3504F3#32
  | 10 => 0xA553C9CA#32
  | 11 => 0x3F3504F3#32
  | 12 => 0xBF800000#32
  | 13 => 0x3F3504F3#32
  | 14 => 0x248D3132#32
  | 15 => 0xBF3504F3#32
  | 16 => 0x3F800000#32
  | 17 => 0xBF3504F3#32
  | 18 => 0xA553C9CA#32
  | 19 => 0x3F3504F3#32
  | 20 => 0xBF800000#32
  | 21 => 0x3F3504F3#32
  | 22 => 0x248D3132#32
  | 23 => 0xBF3504F3#32
  | 24 => 0x3F800000#32
  | 25 => 0xBF3504F3#32
  | 26 => 0xA553C9CA#32
  | 27 => 0x3F3504F3#32
  | 28 => 0xBF800000#32
  | 29 => 0x3F3504F3#32
  | 30 => 0x248D3132#32
  | 31 => 0xBF3504F3#32
  | 32 => 0x3F800000#32
  | 33 => 0xBF3504F3#32
  | 34 => 0xA553C9CA#32
  | 35 => 0x3F3504F3#32
  | 36 => 0xBF800000#32
  | 37 => 0x3F3504F3#32
  | 38 => 0x248D3132#32
  | 39 => 0xBF3504F3#32
  | 40 => 0x3F800000#32
  | 41 => 0xBF3504F3#32
  | 42 => 0xA553C9CA#32
  | 43 => 0x3F3504F3#32
  | 44 => 0xBF800000#32
  | 45 => 0x3F3504F3#32
  | 46 => 0x248D3132#32
  | 47 => 0xBF3504F3#32
  | 48 => 0x3F800000#32
  | 49 => 0xBF3504F3#32
  | 50 => 0xA553C9CA#32
  | 51 => 0x3F3504F3#32
  | 52 => 0xBF800000#32
  | 53 => 0x3F3504F3#32
  | 54 => 0x248D3132#32
  | 55 => 0xBF3504F3#32
  | 56 => 0x3F800000#32
  | 57 => 0xBF3504F3#32
  | 58 => 0xA553C9CA#32
  | 59 => 0x3F3504F3#32
  | 60 => 0xBF800000#32
  | 61 => 0x3F3504F3#32
  | 62 => 0x248D3132#32
  | 63 => 0xBF3504F3#32
  | 64 => 0x3F800000#32
  | 65 => 0xBF3504F3#32
  | 66 => 0xA553C9CA#32
  | 67 => 0x3F3504F3#32
  | 68 => 0xBF800000#32
  | 69 => 0x3F3504F3#32
  | 70 => 0x248D3132#32
  | 71 => 0xBF3504F3#32
  | 72 => 0x3F800000#32
  | 73 => 0xBF3504F3#32
  | 74 => 0xA553C9CA#32
  | 75 => 0x3F3504F3#32
  | 76 => 0xBF800000#32
  | 77 => 0x3F3504F3#32
  | 78 => 0x248D3132#32
  | 79 => 0xBF3504F3#32
  | 80 => 0x3F800000#32
  | 81 => 0xBF3504F3#32
  | 82 => 0xA553C9CA#32
  | 83 => 0x3F3504F3#32
  | 84 => 0xBF800000#32
  | 85 => 0x3F3504F3#32
  | 86 => 0x248D3132#32
  | 87 => 0xBF3504F3#32
  | 88 => 0x3F800000#32
  | 89 => 0xBF3504F3#32
  | 90 => 0xA553C9CA#32
  | 91 => 0x3F3504F3#32
  | 92 => 0xBF800000#32
  | 93 => 0x3F3504F3#32
  | 94 => 0x248D3132#32
  | 95 => 0xBF3504F3#32
  | 96 => 0x3F800000#32
  | 97 => 0xBF3504F3#32
  | 98 => 0xA553C9CA#32
  | 99 => 0x3F3504F3#32
  | 100 => 0xBF800000#32
  | 101 => 0x3F3504F3#32
  | 102 => 0x248D3132#32
  | 103 => 0xBF3504F3#32
  | 104 => 0x3F800000#32
  | 105 => 0xBF3504F3#32
  | 106 => 0xA553C9CA#32
  | 107 => 0x3F3504F3#32
  | 108 => 0xBF800000#32
  | 109 => 0x3F3504F3#32
  | 110 => 0x248D3132#32
  | 111 => 0xBF3504F3#32
  | 112 => 0x3F800000#32
  | 113 => 0xBF3504F3#32
  | 114 => 0xA553C9CA#32
  | 115 => 0x3F3504F3#32
  | 116 => 0xBF800000#32
  | 117 => 0x3F3504F3#32
  | 118 => 0x248D3132#32
  | 119 => 0xBF3504F3#32
  | 120 => 0x3F800000#32
  | 121 => 0xBF3504F3#32
  | 122 => 0xA553C9CA#32
  | 123 => 0x3F3504F3#32
  | 124 => 0xBF800000#32
  | 125 => 0x3F3504F3#32
  | 126 => 0x248D3132#32
  | 127 => 0xBF3504F3#32
  | _ => 0#32

noncomputable abbrev lit0t0_245 (i : Nat) : BitVec 32 := match i % 128 with
  | 0 => 0x3F800000#32
  | 1 => 0xBF3504F3#32
  | 2 => 0xA553C9CA#32
  | 3 => 0x3F3504F3#32
  | 4 => 0xBF800000#32
  | 5 => 0x3F3504F3#32
  | 6 => 0x248D3132#32
  | 7 => 0xBF3504F3#32
  | 8 => 0x3F800000#32
  | 9 => 0xBF3504F3#32
  | 10 => 0xA553C9CA#32
  | 11 => 0x3F3504F3#32
  | 12 => 0xBF800000#32
  | 13 => 0x3F3504F3#32
  | 14 => 0x248D3132#32
  | 15 => 0xBF3504F3#32
  | 16 => 0x3F800000#32
  | 17 => 0xBF3504F3#32
  | 18 => 0xA553C9CA#32
  | 19 => 0x3F3504F3#32
  | 20 => 0xBF800000#32
  | 21 => 0x3F3504F3#32
  | 22 => 0x248D3132#32
  | 23 => 0xBF3504F3#32
  | 24 => 0x3F800000#32
  | 25 => 0xBF3504F3#32
  | 26 => 0xA553C9CA#32
  | 27 => 0x3F3504F3#32
  | 28 => 0xBF800000#32
  | 29 => 0x3F3504F3#32
  | 30 => 0x248D3132#32
  | 31 => 0xBF3504F3#32
  | 32 => 0x3F800000#32
  | 33 => 0xBF38ECD8#32
  | 34 => 0x3D32AA3E#32
  | 35 => 0x3F28CAE3#32
  | 36 => 0xBF7F069E#32
  | 37 => 0x3F47A682#32
  | 38 => 0xBE05A8A8#32
  | 39 => 0xBF176012#32
  | 40 => 0x3F7C1C5C#32
  | 41 => 0xBF54DB31#32
  | 42 => 0x3E5DA259#32
  | 43 => 0x3F04CE53#32
  | 44 => 0xBF7746EA#32
  | 45 => 0x3F60712A#32
  | 46 => 0xBE99F61C#32
  | 47 => 0xBEE273AA#32
  | 48 => 0x3F708FB2#32
  | 49 => 0xBF6A51DA#32
  | 50 => 0x3EC3EF15#32
  | 51 => 0x3EB9917B#32
  | 52 => 0xBF6803CA#32
  | 53 => 0x3F726A03#32
  | 54 => 0xBEEC6A50#32
  | 55 => 0xBE8F45C0#32
  | 56 => 0x3F5DB3D7#32
  | 57 => 0xBF78A9E0#32
  | 58 => 0x3F098C78#32
  | 59 => 0x3E47C5C2#32
  | 60 => 0xBF51B3F3#32
  | 61 => 0x3F7D0543#32
  | 62 => 0xBF1BD7CA#32
  | 63 => 0xBDDEF599#32
  | 64 => 0x3F441B7D#32
  | 65 => 0xBF7F73AF#32
  | 66 => 0x3F2CF37B#32
  | 67 => 0x3CB2B521#32
  | 68 => 0xBF3504F3#32
  | 69 => 0x3F7FF067#32
  | 70 => 0xBF3CBE35#32
  | 71 => 0x3D85F213#32
  | 72 => 0x3F248DBB#32
  | 73 => 0xBF7E7A7A#32
  | 74 => 0x3F4B1934#32
  | 75 => 0xBE1BC63C#32
  | 76 => 0xBF12D5E8#32
  | 77 => 0x3F7B14BE#32
  | 78 => 0xBF57E880#32
  | 79 => 0x3E7363EE#32
  | 80 => 0x3F000000#32
  | 81 => 0xBF75C5D4#32
  | 82 => 0x3F631324#32
  | 83 => 0xBEA493B7#32
  | 84 => 0xBED8616C#32
  | 85 => 0x3F6E9811#32
  | 86 => 0xBF6C835E#32
  | 87 => 0x3ECE34D0#32
  | 88 => 0x3EAF1D44#32
  | 89 => 0xBF659974#32
  | 90 => 0x3F7426CB#32
  | 91 => 0xBEF64429#32
  | 92 => 0xBE8483EE#32
  | 93 => 0x3F5ADB81#32
  | 94 => 0xBF79EE89#32
  | 95 => 0x3F0E39DA#32
  | 96 => 0x3E31D0D4#32
  | 97 => 0xBF4E7327#32
  | 98 => 0x3F7DCF55#32
  | 99 => 0xBF203C85#32
  | 100 => 0xBDB27EB6#32
  | 101 => 0x3F407893#32
  | 102 => 0xBF7FC1A0#32
  | 103 => 0x3F310700#32
  | 104 => 0x248D3132#32
  | 105 => 0xBF310700#32
  | 106 => 0x3F7FC1A0#32
  | 107 => 0xBF407893#32
  | 108 => 0x3DB27EB6#32
  | 109 => 0x3F203C85#32
  | 110 => 0xBF7DCF55#32
  | 111 => 0x3F4E7327#32
  | 112 => 0xBE31D0D4#32
  | 113 => 0xBF0E39DA#32
  | 114 => 0x3F79EE89#32
  | 115 => 0xBF5ADB81#32
  | 116 => 0x3E8483EE#32
  | 117 => 0x3EF64429#32
  | 118 => 0xBF7426CB#32
  | 119 => 0x3F659974#32
  | 120 => 0xBEAF1D44#32
  | 121 => 0xBECE34D0#32
  | 122 => 0x3F6C835E#32
  | 123 => 0xBF6E9811#32
  | 124 => 0x3ED8616C#32
  | 125 => 0x3EA493B7#32
  | 126 => 0xBF631324#32
  | 127 => 0x3F75C5D4#32
  | _ => 0#32

noncomputable abbrev lit0t0_246 (i : Nat) : BitVec 32 := match i % 128 with
  | 0 => 0xBF000000#32
  | 1 => 0xBE7363EE#32
  | 2 => 0x3F57E880#32
  | 3 => 0xBF7B14BE#32
  | 4 => 0x3F12D5E8#32
  | 5 => 0x3E1BC63C#32
  | 6 => 0xBF4B1934#32
  | 7 => 0x3F7E7A7A#32
  | 8 => 0xBF248DBB#32
  | 9 => 0xBD85F213#32
  | 10 => 0x3F3CBE35#32
  | 11 => 0xBF7FF067#32
  | 12 => 0x3F3504F3#32
  | 13 => 0xBCB2B521#32
  | 14 => 0xBF2CF37B#32
  | 15 => 0x3F7F73AF#32
  | 16 => 0xBF441B7D#32
  | 17 => 0x3DDEF599#32
  | 18 => 0x3F1BD7CA#32
  | 19 => 0xBF7D0543#32
  | 20 => 0x3F51B3F3#32
  | 21 => 0xBE47C5C2#32
  | 22 => 0xBF098C78#32
  | 23 => 0x3F78A9E0#32
  | 24 => 0xBF5DB3D7#32
  | 25 => 0x3E8F45C0#32
  | 26 => 0x3EEC6A50#32
  | 27 => 0xBF726A03#32
  | 28 => 0x3F6803CA#32
  | 29 => 0xBEB9917B#32
  | 30 => 0xBEC3EF15#32
  | 31 => 0x3F6A51DA#32
  | 32 => 0xBF708FB2#32
  | 33 => 0x3EE273AA#32
  | 34 => 0x3E99F61C#32
  | 35 => 0xBF60712A#32
  | 36 => 0x3F7746EA#32
  | 37 => 0xBF04CE53#32
  | 38 => 0xBE5DA259#32
  | 39 => 0x3F54DB31#32
  | 40 => 0xBF7C1C5C#32
  | 41 => 0x3F176012#32
  | 42 => 0x3E05A8A8#32
  | 43 => 0xBF47A682#32
  | 44 => 0x3F7F069E#32
  | 45 => 0xBF28CAE3#32
  | 46 => 0xBD32AA3E#32
  | 47 => 0x3F38ECD8#32
  | 48 => 0xBF800000#32
  | 49 => 0x3F38ECD8#32
  | 50 => 0xBD32AA3E#32
  | 51 => 0xBF28CAE3#32
  | 52 => 0x3F7F069E#32
  | 53 => 0xBF47A682#32
  | 54 => 0x3E05A8A8#32
  | 55 => 0x3F176012#32
  | 56 => 0xBF7C1C5C#32
  | 57 => 0x3F54DB31#32
  | 58 => 0xBE5DA259#32
  | 59 => 0xBF04CE53#32
  | 60 => 0x3F7746EA#32
  | 61 => 0xBF60712A#32
  | 62 => 0x3E99F61C#32
  | 63 => 0x3EE273AA#32
  | 64 => 0xBF708FB2#32
  | 65 => 0x3F6A51DA#32
  | 66 => 0xBEC3EF15#32
  | 67 => 0xBEB9917B#32
  | 68 => 0x3F6803CA#32
  | 69 => 0xBF726A03#32
  | 70 => 0x3EEC6A50#32
  | 71 => 0x3E8F45C0#32
  | 72 => 0xBF5DB3D7#32
  | 73 => 0x3F78A9E0#32
  | 74 => 0xBF098C78#32
  | 75 => 0xBE47C5C2#32
  | 76 => 0x3F51B3F3#32
  | 77 => 0xBF7D0543#32
  | 78 => 0x3F1BD7CA#32
  | 79 => 0x3DDEF599#32
  | 80 => 0xBF441B7D#32
  | 81 => 0x3F7F73AF#32
  | 82 => 0xBF2CF37B#32
  | 83 => 0xBCB2B521#32
  | 84 => 0x3F3504F3#32
  | 85 => 0xBF7FF067#32
  | 86 => 0x3F3CBE35#32
  | 87 => 0xBD85F213#32
  | 88 => 0xBF248DBB#32
  | 89 => 0x3F7E7A7A#32
  | 90 => 0xBF4B1934#32
  | 91 => 0x3E1BC63C#32
  | 92 => 0x3F12D5E8#32
  | 93 => 0xBF7B14BE#32
  | 94 => 0x3F57E880#32
  | 95 => 0xBE7363EE#32
  | 96 => 0xBF000000#32
  | 97 => 0x3F75C5D4#32
  | 98 => 0xBF631324#32
  | 99 => 0x3EA493B7#32
  | 100 => 0x3ED8616C#32
  | 101 => 0xBF6E9811#32
  | 102 => 0x3F6C835E#32
  | 103 => 0xBECE34D0#32
  | 104 => 0xBEAF1D44#32
  | 105 => 0x3F659974#32
  | 106 => 0xBF7426CB#32
  | 107 => 0x3EF64429#32
  | 108 => 0x3E8483EE#32
  | 109 => 0xBF5ADB81#32
  | 110 => 0x3F79EE89#32
  | 111 => 0xBF0E39DA#32
  | 112 => 0xBE31D0D4#32
  | 113 => 0x3F4E7327#32
  | 114 => 0xBF7DCF55#32
  | 115 => 0x3F203C85#32
  | 116 => 0x3DB27EB6#32
  | 117 => 0xBF407893#32
  | 118 => 0x3F7FC1A0#32
  | 119 => 0xBF310700#32
  | 120 => 0xA553C9CA#32
  | 121 => 0x3F310700#32
  | 122 => 0xBF7FC1A0#32
  | 123 => 0x3F407893#32
  | 124 => 0xBDB27EB6#32
  | 125 => 0xBF203C85#32
  | 126 => 0x3F7DCF55#32
  | 127 => 0xBF4E7327#32
  | _ => 0#32

noncomputable abbrev lit0t0_247 (i : Nat) : BitVec 32 := match i % 128 with
  | 0 => 0x3E31D0D4#32
  | 1 => 0x3F0E39DA#32
  | 2 => 0xBF79EE89#32
  | 3 => 0x3F5ADB81#32
  | 4 => 0xBE8483EE#32
  | 5 => 0xBEF64429#32
  | 6 => 0x3F7426CB#32
  | 7 => 0xBF659974#32
  | 8 => 0x3EAF1D44#32
  | 9 => 0x3ECE34D0#32
  | 10 => 0xBF6C835E#32
  | 11 => 0x3F6E9811#32
  | 12 => 0xBED8616C#32
  | 13 => 0xBEA493B7#32
  | 14 => 0x3F631324#32
  | 15 => 0xBF75C5D4#32
  | 16 => 0x3F000000#32
  | 17 => 0x3E7363EE#32
  | 18 => 0xBF57E880#32
  | 19 => 0x3F7B14BE#32
  | 20 => 0xBF12D5E8#32
  | 21 => 0xBE1BC63C#32
  | 22 => 0x3F4B1934#32
  | 23 => 0xBF7E7A7A#32
  | 24 => 0x3F248DBB#32
  | 25 => 0x3D85F213#32
  | 26 => 0xBF3CBE35#32
  | 27 => 0x3F7FF067#32
  | 28 => 0xBF3504F3#32
  | 29 => 0x3CB2B521#32
  | 30 => 0x3F2CF37B#32
  | 31 => 0xBF7F73AF#32
  | 32 => 0x3F441B7D#32
  | 33 => 0xBDDEF599#32
  | 34 => 0xBF1BD7CA#32
  | 35 => 0x3F7D0543#32
  | 36 => 0xBF51B3F3#32
  | 37 => 0x3E47C5C2#32
  | 38 => 0x3F098C78#32
  | 39 => 0xBF78A9E0#32
  | 40 => 0x3F5DB3D7#32
  | 41 => 0xBE8F45C0#32
  | 42 => 0xBEEC6A50#32
  | 43 => 0x3F726A03#32
  | 44 => 0xBF6803CA#32
  | 45 => 0x3EB9917B#32
  | 46 => 0x3EC3EF15#32
  | 47 => 0xBF6A51DA#32
  | 48 => 0x3F708FB2#32
  | 49 => 0xBEE273AA#32
  | 50 => 0xBE99F61C#32
  | 51 => 0x3F60712A#32
  | 52 => 0xBF7746EA#32
  | 53 => 0x3F04CE53#32
  | 54 => 0x3E5DA259#32
  | 55 => 0xBF54DB31#32
  | 56 => 0x3F7C1C5C#32
  | 57 => 0xBF176012#32
  | 58 => 0xBE05A8A8#32
  | 59 => 0x3F47A682#32
  | 60 => 0xBF7F069E#32
  | 61 => 0x3F28CAE3#32
  | 62 => 0x3D32AA3E#32
  | 63 => 0xBF38ECD8#32
  | 64 => 0x3F800000#32
  | 65 => 0xBF3CBE35#32
  | 66 => 0x3DB27EB6#32
  | 67 => 0x3F1BD7CA#32
  | 68 => 0xBF7C1C5C#32
  | 69 => 0x3F57E880#32
  | 70 => 0xBE8483EE#32
  | 71 => 0xBEEC6A50#32
  | 72 => 0x3F708FB2#32
  | 73 => 0xBF6C835E#32
  | 74 => 0x3ED8616C#32
  | 75 => 0x3E99F61C#32
  | 76 => 0xBF5DB3D7#32
  | 77 => 0x3F79EE89#32
  | 78 => 0xBF12D5E8#32
  | 79 => 0xBE05A8A8#32
  | 80 => 0x3F441B7D#32
  | 81 => 0xBF7FC1A0#32
  | 82 => 0x3F3504F3#32
  | 83 => 0xBD32AA3E#32
  | 84 => 0xBF248DBB#32
  | 85 => 0x3F7DCF55#32
  | 86 => 0xBF51B3F3#32
  | 87 => 0x3E5DA259#32
  | 88 => 0x3F000000#32
  | 89 => 0xBF7426CB#32
  | 90 => 0x3F6803CA#32
  | 91 => 0xBEC3EF15#32
  | 92 => 0xBEAF1D44#32
  | 93 => 0x3F631324#32
  | 94 => 0xBF7746EA#32
  | 95 => 0x3F098C78#32
  | 96 => 0x3E31D0D4#32
  | 97 => 0xBF4B1934#32
  | 98 => 0x3F7F069E#32
  | 99 => 0xBF2CF37B#32
  | 100 => 0xA553C9CA#32
  | 101 => 0x3F2CF37B#32
  | 102 => 0xBF7F069E#32
  | 103 => 0x3F4B1934#32
  | 104 => 0xBE31D0D4#32
  | 105 => 0xBF098C78#32
  | 106 => 0x3F7746EA#32
  | 107 => 0xBF631324#32
  | 108 => 0x3EAF1D44#32
  | 109 => 0x3EC3EF15#32
  | 110 => 0xBF6803CA#32
  | 111 => 0x3F7426CB#32
  | 112 => 0xBF000000#32
  | 113 => 0xBE5DA259#32
  | 114 => 0x3F51B3F3#32
  | 115 => 0xBF7DCF55#32
  | 116 => 0x3F248DBB#32
  | 117 => 0x3D32AA3E#32
  | 118 => 0xBF3504F3#32
  | 119 => 0x3F7FC1A0#32
  | 120 => 0xBF441B7D#32
  | 121 => 0x3E05A8A8#32
  | 122 => 0x3F12D5E8#32
  | 123 => 0xBF79EE89#32
  | 124 => 0x3F5DB3D7#32
  | 125 => 0xBE99F61C#32
  | 126 => 0xBED8616C#32
  | 127 => 0x3F6C835E#32
  | _ => 0#32

noncomputable abbrev lit0t0_248 (i : Nat) : BitVec 32 := match i % 128 with
  | 0 => 0xBF708FB2#32
  | 1 => 0x3EEC6A50#32
  | 2 => 0x3E8483EE#32
  | 3 => 0xBF57E880#32
  | 4 => 0x3F7C1C5C#32
  | 5 => 0xBF1BD7CA#32
  | 6 => 0xBDB27EB6#32
  | 7 => 0x3F3CBE35#32
  | 8 => 0xBF800000#32
  | 9 => 0x3F3CBE35#32
  | 10 => 0xBDB27EB6#32
  | 11 => 0xBF1BD7CA#32
  | 12 => 0x3F7C1C5C#32
  | 13 => 0xBF57E880#32
  | 14 => 0x3E8483EE#32
  | 15 => 0x3EEC6A50#32
  | 16 => 0xBF708FB2#32
  | 17 => 0x3F6C835E#32
  | 18 => 0xBED8616C#32
  | 19 => 0xBE99F61C#32
  | 20 => 0x3F5DB3D7#32
  | 21 => 0xBF79EE89#32
  | 22 => 0x3F12D5E8#32
  | 23 => 0x3E05A8A8#32
  | 24 => 0xBF441B7D#32
  | 25 => 0x3F7FC1A0#32
  | 26 => 0xBF3504F3#32
  | 27 => 0x3D32AA3E#32
  | 28 => 0x3F248DBB#32
  | 29 => 0xBF7DCF55#32
  | 30 => 0x3F51B3F3#32
  | 31 => 0xBE5DA259#32
  | 32 => 0xBF000000#32
  | 33 => 0x3F7426CB#32
  | 34 => 0xBF6803CA#32
  | 35 => 0x3EC3EF15#32
  | 36 => 0x3EAF1D44#32
  | 37 => 0xBF631324#32
  | 38 => 0x3F7746EA#32
  | 39 => 0xBF098C78#32
  | 40 => 0xBE31D0D4#32
  | 41 => 0x3F4B1934#32
  | 42 => 0xBF7F069E#32
  | 43 => 0x3F2CF37B#32
  | 44 => 0x248D3132#32
  | 45 => 0xBF2CF37B#32
  | 46 => 0x3F7F069E#32
  | 47 => 0xBF4B1934#32
  | 48 => 0x3E31D0D4#32
  | 49 => 0x3F098C78#32
  | 50 => 0xBF7746EA#32
  | 51 => 0x3F631324#32
  | 52 => 0xBEAF1D44#32
  | 53 => 0xBEC3EF15#32
  | 54 => 0x3F6803CA#32
  | 55 => 0xBF7426CB#32
  | 56 => 0x3F000000#32
  | 57 => 0x3E5DA259#32
  | 58 => 0xBF51B3F3#32
  | 59 => 0x3F7DCF55#32
  | 60 => 0xBF248DBB#32
  | 61 => 0xBD32AA3E#32
  | 62 => 0x3F3504F3#32
  | 63 => 0xBF7FC1A0#32
  | 64 => 0x3F441B7D#32
  | 65 => 0xBE05A8A8#32
  | 66 => 0xBF12D5E8#32
  | 67 => 0x3F79EE89#32
  | 68 => 0xBF5DB3D7#32
  | 69 => 0x3E99F61C#32
  | 70 => 0x3ED8616C#32
  | 71 => 0xBF6C835E#32
  | 72 => 0x3F708FB2#32
  | 73 => 0xBEEC6A50#32
  | 74 => 0xBE8483EE#32
  | 75 => 0x3F57E880#32
  | 76 => 0xBF7C1C5C#32
  | 77 => 0x3F1BD7CA#32
  | 78 => 0x3DB27EB6#32
  | 79 => 0xBF3CBE35#32
  | 80 => 0x3F800000#32
  | 81 => 0xBF3CBE35#32
  | 82 => 0x3DB27EB6#32
  | 83 => 0x3F1BD7CA#32
  | 84 => 0xBF7C1C5C#32
  | 85 => 0x3F57E880#32
  | 86 => 0xBE8483EE#32
  | 87 => 0xBEEC6A50#32
  | 88 => 0x3F708FB2#32
  | 89 => 0xBF6C835E#32
  | 90 => 0x3ED8616C#32
  | 91 => 0x3E99F61C#32
  | 92 => 0xBF5DB3D7#32
  | 93 => 0x3F79EE89#32
  | 94 => 0xBF12D5E8#32
  | 95 => 0xBE05A8A8#32
  | 96 => 0x3F441B7D#32
  | 97 => 0xBF7FC1A0#32
  | 98 => 0x3F3504F3#32
  | 99 => 0xBD32AA3E#32
  | 100 => 0xBF248DBB#32
  | 101 => 0x3F7DCF55#32
  | 102 => 0xBF51B3F3#32
  | 103 => 0x3E5DA259#32
  | 104 => 0x3F000000#32
  | 105 => 0xBF7426CB#32
  | 106 => 0x3F6803CA#32
  | 107 => 0xBEC3EF15#32
  | 108 => 0xBEAF1D44#32
  | 109 => 0x3F631324#32
  | 110 => 0xBF7746EA#32
  | 111 => 0x3F098C78#32
  | 112 => 0x3E31D0D4#32
  | 113 => 0xBF4B1934#32
  | 114 => 0x3F7F069E#32
  | 115 => 0xBF2CF37B#32
  | 116 => 0xA553C9CA#32
  | 117 => 0x3F2CF37B#32
  | 118 => 0xBF7F069E#32
  | 119 => 0x3F4B1934#32
  | 120 => 0xBE31D0D4#32
  | 121 => 0xBF098C78#32
  | 122 => 0x3F7746EA#32
  | 123 => 0xBF631324#32
  | 124 => 0x3EAF1D44#32
  | 125 => 0x3EC3EF15#32
  | 126 => 0xBF6803CA#32
  | 127 => 0x3F7426CB#32
  | _ => 0#32

noncomputable abbrev lit0t0_249 (i : Nat) : BitVec 32 := match i % 128 with
  | 0 => 0xBF000000#32
  | 1 => 0xBE5DA259#32
  | 2 => 0x3F51B3F3#32
  | 3 => 0xBF7DCF55#32
  | 4 => 0x3F248DBB#32
  | 5 => 0x3D32AA3E#32
  | 6 => 0xBF3504F3#32
  | 7 => 0x3F7FC1A0#32
  | 8 => 0xBF441B7D#32
  | 9 => 0x3E05A8A8#32
  | 10 => 0x3F12D5E8#32
  | 11 => 0xBF79EE89#32
  | 12 => 0x3F5DB3D7#32
  | 13 => 0xBE99F61C#32
  | 14 => 0xBED8616C#32
  | 15 => 0x3F6C835E#32
  | 16 => 0xBF708FB2#32
  | 17 => 0x3EEC6A50#32
  | 18 => 0x3E8483EE#32
  | 19 => 0xBF57E880#32
  | 20 => 0x3F7C1C5C#32
  | 21 => 0xBF1BD7CA#32
  | 22 => 0xBDB27EB6#32
  | 23 => 0x3F3CBE35#32
  | 24 => 0xBF800000#32
  | 25 => 0x3F3CBE35#32
  | 26 => 0xBDB27EB6#32
  | 27 => 0xBF1BD7CA#32
  | 28 => 0x3F7C1C5C#32
  | 29 => 0xBF57E880#32
  | 30 => 0x3E8483EE#32
  | 31 => 0x3EEC6A50#32
  | 32 => 0xBF708FB2#32
  | 33 => 0x3F6C835E#32
  | 34 => 0xBED8616C#32
  | 35 => 0xBE99F61C#32
  | 36 => 0x3F5DB3D7#32
  | 37 => 0xBF79EE89#32
  | 38 => 0x3F12D5E8#32
  | 39 => 0x3E05A8A8#32
  | 40 => 0xBF441B7D#32
  | 41 => 0x3F7FC1A0#32
  | 42 => 0xBF3504F3#32
  | 43 => 0x3D32AA3E#32
  | 44 => 0x3F248DBB#32
  | 45 => 0xBF7DCF55#32
  | 46 => 0x3F51B3F3#32
  | 47 => 0xBE5DA259#32
  | 48 => 0xBF000000#32
  | 49 => 0x3F7426CB#32
  | 50 => 0xBF6803CA#32
  | 51 => 0x3EC3EF15#32
  | 52 => 0x3EAF1D44#32
  | 53 => 0xBF631324#32
  | 54 => 0x3F7746EA#32
  | 55 => 0xBF098C78#32
  | 56 => 0xBE31D0D4#32
  | 57 => 0x3F4B1934#32
  | 58 => 0xBF7F069E#32
  | 59 => 0x3F2CF37B#32
  | 60 => 0x248D3132#32
  | 61 => 0xBF2CF37B#32
  | 62 => 0x3F7F069E#32
  | 63 => 0xBF4B1934#32
  | 64 => 0x3E31D0D4#32
  | 65 => 0x3F098C78#32
  | 66 => 0xBF7746EA#32
  | 67 => 0x3F631324#32
  | 68 => 0xBEAF1D44#32
  | 69 => 0xBEC3EF15#32
  | 70 => 0x3F6803CA#32
  | 71 => 0xBF7426CB#32
  | 72 => 0x3F000000#32
  | 73 => 0x3E5DA259#32
  | 74 => 0xBF51B3F3#32
  | 75 => 0x3F7DCF55#32
  | 76 => 0xBF248DBB#32
  | 77 => 0xBD32AA3E#32
  | 78 => 0x3F3504F3#32
  | 79 => 0xBF7FC1A0#32
  | 80 => 0x3F441B7D#32
  | 81 => 0xBE05A8A8#32
  | 82 => 0xBF12D5E8#32
  | 83 => 0x3F79EE89#32
  | 84 => 0xBF5DB3D7#32
  | 85 => 0x3E99F61C#32
  | 86 => 0x3ED8616C#32
  | 87 => 0xBF6C835E#32
  | 88 => 0x3F708FB2#32
  | 89 => 0xBEEC6A50#32
  | 90 => 0xBE8483EE#32
  | 91 => 0x3F57E880#32
  | 92 => 0xBF7C1C5C#32
  | 93 => 0x3F1BD7CA#32
  | 94 => 0x3DB27EB6#32
  | 95 => 0xBF3CBE35#32
  | 96 => 0x3F800000#32
  | 97 => 0xBF407893#32
  | 98 => 0x3E05A8A8#32
  | 99 => 0x3F0E39DA#32
  | 100 => 0xBF7746EA#32
  | 101 => 0x3F659974#32
  | 102 => 0xBEC3EF15#32
  | 103 => 0xBEA493B7#32
  | 104 => 0x3F5DB3D7#32
  | 105 => 0xBF7B14BE#32
  | 106 => 0x3F1BD7CA#32
  | 107 => 0x3D85F213#32
  | 108 => 0xBF3504F3#32
  | 109 => 0x3F7F73AF#32
  | 110 => 0xBF4B1934#32
  | 111 => 0x3E47C5C2#32
  | 112 => 0x3F000000#32
  | 113 => 0xBF726A03#32
  | 114 => 0x3F6C835E#32
  | 115 => 0xBEE273AA#32
  | 116 => 0xBE8483EE#32
  | 117 => 0x3F54DB31#32
  | 118 => 0xBF7DCF55#32
  | 119 => 0x3F28CAE3#32
  | 120 => 0x248D3132#32
  | 121 => 0xBF28CAE3#32
  | 122 => 0x3F7DCF55#32
  | 123 => 0xBF54DB31#32
  | 124 => 0x3E8483EE#32
  | 125 => 0x3EE273AA#32
  | 126 => 0xBF6C835E#32
  | 127 => 0x3F726A03#32
  | _ => 0#32

noncomputable abbrev lit0t0_250 (i : Nat) : BitVec 32 := match i % 128 with
  | 0 => 0xBF000000#32
  | 1 => 0xBE47C5C2#32
  | 2 => 0x3F4B1934#32
  | 3 => 0xBF7F73AF#32
  | 4 => 0x3F3504F3#32
  | 5 => 0xBD85F213#32
  | 6 => 0xBF1BD7CA#32
  | 7 => 0x3F7B14BE#32
  | 8 => 0xBF5DB3D7#32
  | 9 => 0x3EA493B7#32
  | 10 => 0x3EC3EF15#32
  | 11 => 0xBF659974#32
  | 12 => 0x3F7746EA#32
  | 13 => 0xBF0E39DA#32
  | 14 => 0xBE05A8A8#32
  | 15 => 0x3F407893#32
  | 16 => 0xBF800000#32
  | 17 => 0x3F407893#32
  | 18 => 0xBE05A8A8#32
  | 19 => 0xBF0E39DA#32
  | 20 => 0x3F7746EA#32
  | 21 => 0xBF659974#32
  | 22 => 0x3EC3EF15#32
  | 23 => 0x3EA493B7#32
  | 24 => 0xBF5DB3D7#32
  | 25 => 0x3F7B14BE#32
  | 26 => 0xBF1BD7CA#32
  | 27 => 0xBD85F213#32
  | 28 => 0x3F3504F3#32
  | 29 => 0xBF7F73AF#32
  | 30 => 0x3F4B1934#32
  | 31 => 0xBE47C5C2#32
  | 32 => 0xBF000000#32
  | 33 => 0x3F726A03#32
  | 34 => 0xBF6C835E#32
  | 35 => 0x3EE273AA#32
  | 36 => 0x3E8483EE#32
  | 37 => 0xBF54DB31#32
  | 38 => 0x3F7DCF55#32
  | 39 => 0xBF28CAE3#32
  | 40 => 0xA553C9CA#32
  | 41 => 0x3F28CAE3#32
  | 42 => 0xBF7DCF55#32
  | 43 => 0x3F54DB31#32
  | 44 => 0xBE8483EE#32
  | 45 => 0xBEE273AA#32
  | 46 => 0x3F6C835E#32
  | 47 => 0xBF726A03#32
  | 48 => 0x3F000000#32
  | 49 => 0x3E47C5C2#32
  | 50 => 0xBF4B1934#32
  | 51 => 0x3F7F73AF#32
  | 52 => 0xBF3504F3#32
  | 53 => 0x3D85F213#32
  | 54 => 0x3F1BD7CA#32
  | 55 => 0xBF7B14BE#32
  | 56 => 0x3F5DB3D7#32
  | 57 => 0xBEA493B7#32
  | 58 => 0xBEC3EF15#32
  | 59 => 0x3F659974#32
  | 60 => 0xBF7746EA#32
  | 61 => 0x3F0E39DA#32
  | 62 => 0x3E05A8A8#32
  | 63 => 0xBF407893#32
  | 64 => 0x3F800000#32
  | 65 => 0xBF407893#32
  | 66 => 0x3E05A8A8#32
  | 67 => 0x3F0E39DA#32
  | 68 => 0xBF7746EA#32
  | 69 => 0x3F659974#32
  | 70 => 0xBEC3EF15#32
  | 71 => 0xBEA493B7#32
  | 72 => 0x3F5DB3D7#32
  | 73 => 0xBF7B14BE#32
  | 74 => 0x3F1BD7CA#32
  | 75 => 0x3D85F213#32
  | 76 => 0xBF3504F3#32
  | 77 => 0x3F7F73AF#32
  | 78 => 0xBF4B1934#32
  | 79 => 0x3E47C5C2#32
  | 80 => 0x3F000000#32
  | 81 => 0xBF726A03#32
  | 82 => 0x3F6C835E#32
  | 83 => 0xBEE273AA#32
  | 84 => 0xBE8483EE#32
  | 85 => 0x3F54DB31#32
  | 86 => 0xBF7DCF55#32
  | 87 => 0x3F28CAE3#32
  | 88 => 0x248D3132#32
  | 89 => 0xBF28CAE3#32
  | 90 => 0x3F7DCF55#32
  | 91 => 0xBF54DB31#32
  | 92 => 0x3E8483EE#32
  | 93 => 0x3EE273AA#32
  | 94 => 0xBF6C835E#32
  | 95 => 0x3F726A03#32
  | 96 => 0xBF000000#32
  | 97 => 0xBE47C5C2#32
  | 98 => 0x3F4B1934#32
  | 99 => 0xBF7F73AF#32
  | 100 => 0x3F3504F3#32
  | 101 => 0xBD85F213#32
  | 102 => 0xBF1BD7CA#32
  | 103 => 0x3F7B14BE#32
  | 104 => 0xBF5DB3D7#32
  | 105 => 0x3EA493B7#32
  | 106 => 0x3EC3EF15#32
  | 107 => 0xBF659974#32
  | 108 => 0x3F7746EA#32
  | 109 => 0xBF0E39DA#32
  | 110 => 0xBE05A8A8#32
  | 111 => 0x3F407893#32
  | 112 => 0xBF800000#32
  | 113 => 0x3F407893#32
  | 114 => 0xBE05A8A8#32
  | 115 => 0xBF0E39DA#32
  | 116 => 0x3F7746EA#32
  | 117 => 0xBF659974#32
  | 118 => 0x3EC3EF15#32
  | 119 => 0x3EA493B7#32
  | 120 => 0xBF5DB3D7#32
  | 121 => 0x3F7B14BE#32
  | 122 => 0xBF1BD7CA#32
  | 123 => 0xBD85F213#32
  | 124 => 0x3F3504F3#32
  | 125 => 0xBF7F73AF#32
  | 126 => 0x3F4B1934#32
  | 127 => 0xBE47C5C2#32
  | _ => 0#32

noncomputable abbrev lit0t0_251 (i : Nat) : BitVec 32 := match i % 128 with
  | 0 => 0xBF000000#32
  | 1 => 0x3F726A03#32
  | 2 => 0xBF6C835E#32
  | 3 => 0x3EE273AA#32
  | 4 => 0x3E8483EE#32
  | 5 => 0xBF54DB31#32
  | 6 => 0x3F7DCF55#32
  | 7 => 0xBF28CAE3#32
  | 8 => 0xA553C9CA#32
  | 9 => 0x3F28CAE3#32
  | 10 => 0xBF7DCF55#32
  | 11 => 0x3F54DB31#32
  | 12 => 0xBE8483EE#32
  | 13 => 0xBEE273AA#32
  | 14 => 0x3F6C835E#32
  | 15 => 0xBF726A03#32
  | 16 => 0x3F000000#32
  | 17 => 0x3E47C5C2#32
  | 18 => 0xBF4B1934#32
  | 19 => 0x3F7F73AF#32
  | 20 => 0xBF3504F3#32
  | 21 => 0x3D85F213#32
  | 22 => 0x3F1BD7CA#32
  | 23 => 0xBF7B14BE#32
  | 24 => 0x3F5DB3D7#32
  | 25 => 0xBEA493B7#32
  | 26 => 0xBEC3EF15#32
  | 27 => 0x3F659974#32
  | 28 => 0xBF7746EA#32
  | 29 => 0x3F0E39DA#32
  | 30 => 0x3E05A8A8#32
  | 31 => 0xBF407893#32
  | 32 => 0x3F800000#32
  | 33 => 0xBF407893#32
  | 34 => 0x3E05A8A8#32
  | 35 => 0x3F0E39DA#32
  | 36 => 0xBF7746EA#32
  | 37 => 0x3F659974#32
  | 38 => 0xBEC3EF15#32
  | 39 => 0xBEA493B7#32
  | 40 => 0x3F5DB3D7#32
  | 41 => 0xBF7B14BE#32
  | 42 => 0x3F1BD7CA#32
  | 43 => 0x3D85F213#32
  | 44 => 0xBF3504F3#32
  | 45 => 0x3F7F73AF#32
  | 46 => 0xBF4B1934#32
  | 47 => 0x3E47C5C2#32
  | 48 => 0x3F000000#32
  | 49 => 0xBF726A03#32
  | 50 => 0x3F6C835E#32
  | 51 => 0xBEE273AA#32
  | 52 => 0xBE8483EE#32
  | 53 => 0x3F54DB31#32
  | 54 => 0xBF7DCF55#32
  | 55 => 0x3F28CAE3#32
  | 56 => 0x248D3132#32
  | 57 => 0xBF28CAE3#32
  | 58 => 0x3F7DCF55#32
  | 59 => 0xBF54DB31#32
  | 60 => 0x3E8483EE#32
  | 61 => 0x3EE273AA#32
  | 62 => 0xBF6C835E#32
  | 63 => 0x3F726A03#32
  | 64 => 0xBF000000#32
  | 65 => 0xBE47C5C2#32
  | 66 => 0x3F4B1934#32
  | 67 => 0xBF7F73AF#32
  | 68 => 0x3F3504F3#32
  | 69 => 0xBD85F213#32
  | 70 => 0xBF1BD7CA#32
  | 71 => 0x3F7B14BE#32
  | 72 => 0xBF5DB3D7#32
  | 73 => 0x3EA493B7#32
  | 74 => 0x3EC3EF15#32
  | 75 => 0xBF659974#32
  | 76 => 0x3F7746EA#32
  | 77 => 0xBF0E39DA#32
  | 78 => 0xBE05A8A8#32
  | 79 => 0x3F407893#32
  | 80 => 0xBF800000#32
  | 81 => 0x3F407893#32
  | 82 => 0xBE05A8A8#32
  | 83 => 0xBF0E39DA#32
  | 84 => 0x3F7746EA#32
  | 85 => 0xBF659974#32
  | 86 => 0x3EC3EF15#32
  | 87 => 0x3EA493B7#32
  | 88 => 0xBF5DB3D7#32
  | 89 => 0x3F7B14BE#32
  | 90 => 0xBF1BD7CA#32
  | 91 => 0xBD85F213#32
  | 92 => 0x3F3504F3#32
  | 93 => 0xBF7F73AF#32
  | 94 => 0x3F4B1934#32
  | 95 => 0xBE47C5C2#32
  | 96 => 0xBF000000#32
  | 97 => 0x3F726A03#32
  | 98 => 0xBF6C835E#32
  | 99 => 0x3EE273AA#32
  | 100 => 0x3E8483EE#32
  | 101 => 0xBF54DB31#32
  | 102 => 0x3F7DCF55#32
  | 103 => 0xBF28CAE3#32
  | 104 => 0xA553C9CA#32
  | 105 => 0x3F28CAE3#32
  | 106 => 0xBF7DCF55#32
  | 107 => 0x3F54DB31#32
  | 108 => 0xBE8483EE#32
  | 109 => 0xBEE273AA#32
  | 110 => 0x3F6C835E#32
  | 111 => 0xBF726A03#32
  | 112 => 0x3F000000#32
  | 113 => 0x3E47C5C2#32
  | 114 => 0xBF4B1934#32
  | 115 => 0x3F7F73AF#32
  | 116 => 0xBF3504F3#32
  | 117 => 0x3D85F213#32
  | 118 => 0x3F1BD7CA#32
  | 119 => 0xBF7B14BE#32
  | 120 => 0x3F5DB3D7#32
  | 121 => 0xBEA493B7#32
  | 122 => 0xBEC3EF15#32
  | 123 => 0x3F659974#32
  | 124 => 0xBF7746EA#32
  | 125 => 0x3F0E39DA#32
  | 126 => 0x3E05A8A8#32
  | 127 => 0xBF407893#32
  | _ => 0#32

noncomputable abbrev lit0t0_252 (i : Nat) : BitVec 32 := match i % 128 with
  | 0 => 0x3F800000#32
  | 1 => 0xBF441B7D#32
  | 2 => 0x3E31D0D4#32
  | 3 => 0x3F000000#32
  | 4 => 0xBF708FB2#32
  | 5 => 0x3F708FB2#32
  | 6 => 0xBF000000#32
  | 7 => 0xBE31D0D4#32
  | 8 => 0x3F441B7D#32
  | 9 => 0xBF800000#32
  | 10 => 0x3F441B7D#32
  | 11 => 0xBE31D0D4#32
  | 12 => 0xBF000000#32
  | 13 => 0x3F708FB2#32
  | 14 => 0xBF708FB2#32
  | 15 => 0x3F000000#32
  | 16 => 0x3E31D0D4#32
  | 17 => 0xBF441B7D#32
  | 18 => 0x3F800000#32
  | 19 => 0xBF441B7D#32
  | 20 => 0x3E31D0D4#32
  | 21 => 0x3F000000#32
  | 22 => 0xBF708FB2#32
  | 23 => 0x3F708FB2#32
  | 24 => 0xBF000000#32
  | 25 => 0xBE31D0D4#32
  | 26 => 0x3F441B7D#32
  | 27 => 0xBF800000#32
  | 28 => 0x3F441B7D#32
  | 29 => 0xBE31D0D4#32
  | 30 => 0xBF000000#32
  | 31 => 0x3F708FB2#32
  | 32 => 0xBF708FB2#32
  | 33 => 0x3F000000#32
  | 34 => 0x3E31D0D4#32
  | 35 => 0xBF441B7D#32
  | 36 => 0x3F800000#32
  | 37 => 0xBF441B7D#32
  | 38 => 0x3E31D0D4#32
  | 39 => 0x3F000000#32
  | 40 => 0xBF708FB2#32
  | 41 => 0x3F708FB2#32
  | 42 => 0xBF000000#32
  | 43 => 0xBE31D0D4#32
  | 44 => 0x3F441B7D#32
  | 45 => 0xBF800000#32
  | 46 => 0x3F441B7D#32
  | 47 => 0xBE31D0D4#32
  | 48 => 0xBF000000#32
  | 49 => 0x3F708FB2#32
  | 50 => 0xBF708FB2#32
  | 51 => 0x3F000000#32
  | 52 => 0x3E31D0D4#32
  | 53 => 0xBF441B7D#32
  | 54 => 0x3F800000#32
  | 55 => 0xBF441B7D#32
  | 56 => 0x3E31D0D4#32
  | 57 => 0x3F000000#32
  | 58 => 0xBF708FB2#32
  | 59 => 0x3F708FB2#32
  | 60 => 0xBF000000#32
  | 61 => 0xBE31D0D4#32
  | 62 => 0x3F441B7D#32
  | 63 => 0xBF800000#32
  | 64 => 0x3F441B7D#32
  | 65 => 0xBE31D0D4#32
  | 66 => 0xBF000000#32
  | 67 => 0x3F708FB2#32
  | 68 => 0xBF708FB2#32
  | 69 => 0x3F000000#32
  | 70 => 0x3E31D0D4#32
  | 71 => 0xBF441B7D#32
  | 72 => 0x3F800000#32
  | 73 => 0xBF441B7D#32
  | 74 => 0x3E31D0D4#32
  | 75 => 0x3F000000#32
  | 76 => 0xBF708FB2#32
  | 77 => 0x3F708FB2#32
  | 78 => 0xBF000000#32
  | 79 => 0xBE31D0D4#32
  | 80 => 0x3F441B7D#32
  | 81 => 0xBF800000#32
  | 82 => 0x3F441B7D#32
  | 83 => 0xBE31D0D4#32
  | 84 => 0xBF000000#32
  | 85 => 0x3F708FB2#32
  | 86 => 0xBF708FB2#32
  | 87 => 0x3F000000#32
  | 88 => 0x3E31D0D4#32
  | 89 => 0xBF441B7D#32
  | 90 => 0x3F800000#32
  | 91 => 0xBF441B7D#32
  | 92 => 0x3E31D0D4#32
  | 93 => 0x3F000000#32
  | 94 => 0xBF708FB2#32
  | 95 => 0x3F708FB2#32
  | 96 => 0xBF000000#32
  | 97 => 0xBE31D0D4#32
  | 98 => 0x3F441B7D#32
  | 99 => 0xBF800000#32
  | 100 => 0x3F441B7D#32
  | 101 => 0xBE31D0D4#32
  | 102 => 0xBF000000#32
  | 103 => 0x3F708FB2#32
  | 104 => 0xBF708FB2#32
  | 105 => 0x3F000000#32
  | 106 => 0x3E31D0D4#32
  | 107 => 0xBF441B7D#32
  | 108 => 0x3F800000#32
  | 109 => 0xBF441B7D#32
  | 110 => 0x3E31D0D4#32
  | 111 => 0x3F000000#32
  | 112 => 0xBF708FB2#32
  | 113 => 0x3F708FB2#32
  | 114 => 0xBF000000#32
  | 115 => 0xBE31D0D4#32
  | 116 => 0x3F441B7D#32
  | 117 => 0xBF800000#32
  | 118 => 0x3F441B7D#32
  | 119 => 0xBE31D0D4#32
  | 120 => 0xBF000000#32
  | 121 => 0x3F708FB2#32
  | 122 => 0xBF708FB2#32
  | 123 => 0x3F000000#32
  | 124 => 0x3E31D0D4#32
  | 125 => 0xBF441B7D#32
  | 126 => 0x3F800000#32
  | 127 => 0xBF441B7D#32
  | _ => 0#32

noncomputable abbrev lit0t0_253 (i : Nat) : BitVec 32 := match i % 128 with
  | 0 => 0x3E31D0D4#32
  | 1 => 0x3F000000#32
  | 2 => 0xBF708FB2#32
  | 3 => 0x3F708FB2#32
  | 4 => 0xBF000000#32
  | 5 => 0xBE31D0D4#32
  | 6 => 0x3F441B7D#32
  | 7 => 0xBF800000#32
  | 8 => 0x3F441B7D#32
  | 9 => 0xBE31D0D4#32
  | 10 => 0xBF000000#32
  | 11 => 0x3F708FB2#32
  | 12 => 0xBF708FB2#32
  | 13 => 0x3F000000#32
  | 14 => 0x3E31D0D4#32
  | 15 => 0xBF441B7D#32
  | 16 => 0x3F800000#32
  | 17 => 0xBF441B7D#32
  | 18 => 0x3E31D0D4#32
  | 19 => 0x3F000000#32
  | 20 => 0xBF708FB2#32
  | 21 => 0x3F708FB2#32
  | 22 => 0xBF000000#32
  | 23 => 0xBE31D0D4#32
  | 24 => 0x3F441B7D#32
  | 25 => 0xBF800000#32
  | 26 => 0x3F441B7D#32
  | 27 => 0xBE31D0D4#32
  | 28 => 0xBF000000#32
  | 29 => 0x3F708FB2#32
  | 30 => 0xBF708FB2#32
  | 31 => 0x3F000000#32
  | 32 => 0x3E31D0D4#32
  | 33 => 0xBF441B7D#32
  | 34 => 0x3F800000#32
  | 35 => 0xBF441B7D#32
  | 36 => 0x3E31D0D4#32
  | 37 => 0x3F000000#32
  | 38 => 0xBF708FB2#32
  | 39 => 0x3F708FB2#32
  | 40 => 0xBF000000#32
  | 41 => 0xBE31D0D4#32
  | 42 => 0x3F441B7D#32
  | 43 => 0xBF800000#32
  | 44 => 0x3F441B7D#32
  | 45 => 0xBE31D0D4#32
  | 46 => 0xBF000000#32
  | 47 => 0x3F708FB2#32
  | 48 => 0xBF708FB2#32
  | 49 => 0x3F000000#32
  | 50 => 0x3E31D0D4#32
  | 51 => 0xBF441B7D#32
  | 52 => 0x3F800000#32
  | 53 => 0xBF441B7D#32
  | 54 => 0x3E31D0D4#32
  | 55 => 0x3F000000#32
  | 56 => 0xBF708FB2#32
  | 57 => 0x3F708FB2#32
  | 58 => 0xBF000000#32
  | 59 => 0xBE31D0D4#32
  | 60 => 0x3F441B7D#32
  | 61 => 0xBF800000#32
  | 62 => 0x3F441B7D#32
  | 63 => 0xBE31D0D4#32
  | 64 => 0xBF000000#32
  | 65 => 0x3F708FB2#32
  | 66 => 0xBF708FB2#32
  | 67 => 0x3F000000#32
  | 68 => 0x3E31D0D4#32
  | 69 => 0xBF441B7D#32
  | 70 => 0x3F800000#32
  | 71 => 0xBF441B7D#32
  | 72 => 0x3E31D0D4#32
  | 73 => 0x3F000000#32
  | 74 => 0xBF708FB2#32
  | 75 => 0x3F708FB2#32
  | 76 => 0xBF000000#32
  | 77 => 0xBE31D0D4#32
  | 78 => 0x3F441B7D#32
  | 79 => 0xBF800000#32
  | 80 => 0x3F441B7D#32
  | 81 => 0xBE31D0D4#32
  | 82 => 0xBF000000#32
  | 83 => 0x3F708FB2#32
  | 84 => 0xBF708FB2#32
  | 85 => 0x3F000000#32
  | 86 => 0x3E31D0D4#32
  | 87 => 0xBF441B7D#32
  | 88 => 0x3F800000#32
  | 89 => 0xBF441B7D#32
  | 90 => 0x3E31D0D4#32
  | 91 => 0x3F000000#32
  | 92 => 0xBF708FB2#32
  | 93 => 0x3F708FB2#32
  | 94 => 0xBF000000#32
  | 95 => 0xBE31D0D4#32
  | 96 => 0x3F441B7D#32
  | 97 => 0xBF800000#32
  | 98 => 0x3F441B7D#32
  | 99 => 0xBE31D0D4#32
  | 100 => 0xBF000000#32
  | 101 => 0x3F708FB2#32
  | 102 => 0xBF708FB2#32
  | 103 => 0x3F000000#32
  | 104 => 0x3E31D0D4#32
  | 105 => 0xBF441B7D#32
  | 106 => 0x3F800000#32
  | 107 => 0xBF441B7D#32
  | 108 => 0x3E31D0D4#32
  | 109 => 0x3F000000#32
  | 110 => 0xBF708FB2#32
  | 111 => 0x3F708FB2#32
  | 112 => 0xBF000000#32
  | 113 => 0xBE31D0D4#32
  | 114 => 0x3F441B7D#32
  | 115 => 0xBF800000#32
  | 116 => 0x3F441B7D#32
  | 117 => 0xBE31D0D4#32
  | 118 => 0xBF000000#32
  | 119 => 0x3F708FB2#32
  | 120 => 0xBF708FB2#32
  | 121 => 0x3F000000#32
  | 122 => 0x3E31D0D4#32
  | 123 => 0xBF441B7D#32
  | 124 => 0x3F800000#32
  | 125 => 0xBF441B7D#32
  | 126 => 0x3E31D0D4#32
  | 127 => 0x3F000000#32
  | _ => 0#32

noncomputable abbrev lit0t0_254 (i : Nat) : BitVec 32 := match i % 128 with
  | 0 => 0xBF708FB2#32
  | 1 => 0x3F708FB2#32
  | 2 => 0xBF000000#32
  | 3 => 0xBE31D0D4#32
  | 4 => 0x3F441B7D#32
  | 5 => 0xBF800000#32
  | 6 => 0x3F441B7D#32
  | 7 => 0xBE31D0D4#32
  | 8 => 0xBF000000#32
  | 9 => 0x3F708FB2#32
  | 10 => 0xBF708FB2#32
  | 11 => 0x3F000000#32
  | 12 => 0x3E31D0D4#32
  | 13 => 0xBF441B7D#32
  | 14 => 0x3F800000#32
  | 15 => 0xBF441B7D#32
  | 16 => 0x3E31D0D4#32
  | 17 => 0x3F000000#32
  | 18 => 0xBF708FB2#32
  | 19 => 0x3F708FB2#32
  | 20 => 0xBF000000#32
  | 21 => 0xBE31D0D4#32
  | 22 => 0x3F441B7D#32
  | 23 => 0xBF800000#32
  | 24 => 0x3F441B7D#32
  | 25 => 0xBE31D0D4#32
  | 26 => 0xBF000000#32
  | 27 => 0x3F708FB2#32
  | 28 => 0xBF708FB2#32
  | 29 => 0x3F000000#32
  | 30 => 0x3E31D0D4#32
  | 31 => 0xBF441B7D#32
  | 32 => 0x3F800000#32
  | 33 => 0xBF47A682#32
  | 34 => 0x3E5DA259#32
  | 35 => 0x3EE273AA#32
  | 36 => 0xBF6803CA#32
  | 37 => 0x3F78A9E0#32
  | 38 => 0xBF1BD7CA#32
  | 39 => 0xBCB2B521#32
  | 40 => 0x3F248DBB#32
  | 41 => 0xBF7B14BE#32
  | 42 => 0x3F631324#32
  | 43 => 0xBECE34D0#32
  | 44 => 0xBE8483EE#32
  | 45 => 0x3F4E7327#32
  | 46 => 0xBF7FC1A0#32
  | 47 => 0x3F407893#32
  | 48 => 0xBE31D0D4#32
  | 49 => 0xBEF64429#32
  | 50 => 0x3F6C835E#32
  | 51 => 0xBF75C5D4#32
  | 52 => 0x3F12D5E8#32
  | 53 => 0x3D85F213#32
  | 54 => 0xBF2CF37B#32
  | 55 => 0x3F7D0543#32
  | 56 => 0xBF5DB3D7#32
  | 57 => 0x3EB9917B#32
  | 58 => 0x3E99F61C#32
  | 59 => 0xBF54DB31#32
  | 60 => 0x3F7F069E#32
  | 61 => 0xBF38ECD8#32
  | 62 => 0x3E05A8A8#32
  | 63 => 0x3F04CE53#32
  | 64 => 0xBF708FB2#32
  | 65 => 0x3F726A03#32
  | 66 => 0xBF098C78#32
  | 67 => 0xBDDEF599#32
  | 68 => 0x3F3504F3#32
  | 69 => 0xBF7E7A7A#32
  | 70 => 0x3F57E880#32
  | 71 => 0xBEA493B7#32
  | 72 => 0xBEAF1D44#32
  | 73 => 0x3F5ADB81#32
  | 74 => 0xBF7DCF55#32
  | 75 => 0x3F310700#32
  | 76 => 0xBDB27EB6#32
  | 77 => 0xBF0E39DA#32
  | 78 => 0x3F7426CB#32
  | 79 => 0xBF6E9811#32
  | 80 => 0x3F000000#32
  | 81 => 0x3E1BC63C#32
  | 82 => 0xBF3CBE35#32
  | 83 => 0x3F7F73AF#32
  | 84 => 0xBF51B3F3#32
  | 85 => 0x3E8F45C0#32
  | 86 => 0x3EC3EF15#32
  | 87 => 0xBF60712A#32
  | 88 => 0x3F7C1C5C#32
  | 89 => 0xBF28CAE3#32
  | 90 => 0x3D32AA3E#32
  | 91 => 0x3F176012#32
  | 92 => 0xBF7746EA#32
  | 93 => 0x3F6A51DA#32
  | 94 => 0xBEEC6A50#32
  | 95 => 0xBE47C5C2#32
  | 96 => 0x3F441B7D#32
  | 97 => 0xBF7FF067#32
  | 98 => 0x3F4B1934#32
  | 99 => 0xBE7363EE#32
  | 100 => 0xBED8616C#32
  | 101 => 0x3F659974#32
  | 102 => 0xBF79EE89#32
  | 103 => 0x3F203C85#32
  | 104 => 0x248D3132#32
  | 105 => 0xBF203C85#32
  | 106 => 0x3F79EE89#32
  | 107 => 0xBF659974#32
  | 108 => 0x3ED8616C#32
  | 109 => 0x3E7363EE#32
  | 110 => 0xBF4B1934#32
  | 111 => 0x3F7FF067#32
  | 112 => 0xBF441B7D#32
  | 113 => 0x3E47C5C2#32
  | 114 => 0x3EEC6A50#32
  | 115 => 0xBF6A51DA#32
  | 116 => 0x3F7746EA#32
  | 117 => 0xBF176012#32
  | 118 => 0xBD32AA3E#32
  | 119 => 0x3F28CAE3#32
  | 120 => 0xBF7C1C5C#32
  | 121 => 0x3F60712A#32
  | 122 => 0xBEC3EF15#32
  | 123 => 0xBE8F45C0#32
  | 124 => 0x3F51B3F3#32
  | 125 => 0xBF7F73AF#32
  | 126 => 0x3F3CBE35#32
  | 127 => 0xBE1BC63C#32
  | _ => 0#32

noncomputable abbrev lit0t0_255 (i : Nat) : BitVec 32 := match i % 128 with
  | 0 => 0xBF000000#32
  | 1 => 0x3F6E9811#32
  | 2 => 0xBF7426CB#32
  | 3 => 0x3F0E39DA#32
  | 4 => 0x3DB27EB6#32
  | 5 => 0xBF310700#32
  | 6 => 0x3F7DCF55#32
  | 7 => 0xBF5ADB81#32
  | 8 => 0x3EAF1D44#32
  | 9 => 0x3EA493B7#32
  | 10 => 0xBF57E880#32
  | 11 => 0x3F7E7A7A#32
  | 12 => 0xBF3504F3#32
  | 13 => 0x3DDEF599#32
  | 14 => 0x3F098C78#32
  | 15 => 0xBF726A03#32
  | 16 => 0x3F708FB2#32
  | 17 => 0xBF04CE53#32
  | 18 => 0xBE05A8A8#32
  | 19 => 0x3F38ECD8#32
  | 20 => 0xBF7F069E#32
  | 21 => 0x3F54DB31#32
  | 22 => 0xBE99F61C#32
  | 23 => 0xBEB9917B#32
  | 24 => 0x3F5DB3D7#32
  | 25 => 0xBF7D0543#32
  | 26 => 0x3F2CF37B#32
  | 27 => 0xBD85F213#32
  | 28 => 0xBF12D5E8#32
  | 29 => 0x3F75C5D4#32
  | 30 => 0xBF6C835E#32
  | 31 => 0x3EF64429#32
  | 32 => 0x3E31D0D4#32
  | 33 => 0xBF407893#32
  | 34 => 0x3F7FC1A0#32
  | 35 => 0xBF4E7327#32
  | 36 => 0x3E8483EE#32
  | 37 => 0x3ECE34D0#32
  | 38 => 0xBF631324#32
  | 39 => 0x3F7B14BE#32
  | 40 => 0xBF248DBB#32
  | 41 => 0x3CB2B521#32
  | 42 => 0x3F1BD7CA#32
  | 43 => 0xBF78A9E0#32
  | 44 => 0x3F6803CA#32
  | 45 => 0xBEE273AA#32
  | 46 => 0xBE5DA259#32
  | 47 => 0x3F47A682#32
  | 48 => 0xBF800000#32
  | 49 => 0x3F47A682#32
  | 50 => 0xBE5DA259#32
  | 51 => 0xBEE273AA#32
  | 52 => 0x3F6803CA#32
  | 53 => 0xBF78A9E0#32
  | 54 => 0x3F1BD7CA#32
  | 55 => 0x3CB2B521#32
  | 56 => 0xBF248DBB#32
  | 57 => 0x3F7B14BE#32
  | 58 => 0xBF631324#32
  | 59 => 0x3ECE34D0#32
  | 60 => 0x3E8483EE#32
  | 61 => 0xBF4E7327#32
  | 62 => 0x3F7FC1A0#32
  | 63 => 0xBF407893#32
  | 64 => 0x3E31D0D4#32
  | 65 => 0x3EF64429#32
  | 66 => 0xBF6C835E#32
  | 67 => 0x3F75C5D4#32
  | 68 => 0xBF12D5E8#32
  | 69 => 0xBD85F213#32
  | 70 => 0x3F2CF37B#32
  | 71 => 0xBF7D0543#32
  | 72 => 0x3F5DB3D7#32
  | 73 => 0xBEB9917B#32
  | 74 => 0xBE99F61C#32
  | 75 => 0x3F54DB31#32
  | 76 => 0xBF7F069E#32
  | 77 => 0x3F38ECD8#32
  | 78 => 0xBE05A8A8#32
  | 79 => 0xBF04CE53#32
  | 80 => 0x3F708FB2#32
  | 81 => 0xBF726A03#32
  | 82 => 0x3F098C78#32
  | 83 => 0x3DDEF599#32
  | 84 => 0xBF3504F3#32
  | 85 => 0x3F7E7A7A#32
  | 86 => 0xBF57E880#32
  | 87 => 0x3EA493B7#32
  | 88 => 0x3EAF1D44#32
  | 89 => 0xBF5ADB81#32
  | 90 => 0x3F7DCF55#32
  | 91 => 0xBF310700#32
  | 92 => 0x3DB27EB6#32
  | 93 => 0x3F0E39DA#32
  | 94 => 0xBF7426CB#32
  | 95 => 0x3F6E9811#32
  | 96 => 0xBF000000#32
  | 97 => 0xBE1BC63C#32
  | 98 => 0x3F3CBE35#32
  | 99 => 0xBF7F73AF#32
  | 100 => 0x3F51B3F3#32
  | 101 => 0xBE8F45C0#32
  | 102 => 0xBEC3EF15#32
  | 103 => 0x3F60712A#32
  | 104 => 0xBF7C1C5C#32
  | 105 => 0x3F28CAE3#32
  | 106 => 0xBD32AA3E#32
  | 107 => 0xBF176012#32
  | 108 => 0x3F7746EA#32
  | 109 => 0xBF6A51DA#32
  | 110 => 0x3EEC6A50#32
  | 111 => 0x3E47C5C2#32
  | 112 => 0xBF441B7D#32
  | 113 => 0x3F7FF067#32
  | 114 => 0xBF4B1934#32
  | 115 => 0x3E7363EE#32
  | 116 => 0x3ED8616C#32
  | 117 => 0xBF659974#32
  | 118 => 0x3F79EE89#32
  | 119 => 0xBF203C85#32
  | 120 => 0xA553C9CA#32
  | 121 => 0x3F203C85#32
  | 122 => 0xBF79EE89#32
  | 123 => 0x3F659974#32
  | 124 => 0xBED8616C#32
  | 125 => 0xBE7363EE#32
  | 126 => 0x3F4B1934#32
  | 127 => 0xBF7FF067#32
  | _ => 0#32

noncomputable abbrev lit0t0_256 (i : Nat) : BitVec 32 := match i % 128 with
  | 0 => 0x3F441B7D#32
  | 1 => 0xBE47C5C2#32
  | 2 => 0xBEEC6A50#32
  | 3 => 0x3F6A51DA#32
  | 4 => 0xBF7746EA#32
  | 5 => 0x3F176012#32
  | 6 => 0x3D32AA3E#32
  | 7 => 0xBF28CAE3#32
  | 8 => 0x3F7C1C5C#32
  | 9 => 0xBF60712A#32
  | 10 => 0x3EC3EF15#32
  | 11 => 0x3E8F45C0#32
  | 12 => 0xBF51B3F3#32
  | 13 => 0x3F7F73AF#32
  | 14 => 0xBF3CBE35#32
  | 15 => 0x3E1BC63C#32
  | 16 => 0x3F000000#32
  | 17 => 0xBF6E9811#32
  | 18 => 0x3F7426CB#32
  | 19 => 0xBF0E39DA#32
  | 20 => 0xBDB27EB6#32
  | 21 => 0x3F310700#32
  | 22 => 0xBF7DCF55#32
  | 23 => 0x3F5ADB81#32
  | 24 => 0xBEAF1D44#32
  | 25 => 0xBEA493B7#32
  | 26 => 0x3F57E880#32
  | 27 => 0xBF7E7A7A#32
  | 28 => 0x3F3504F3#32
  | 29 => 0xBDDEF599#32
  | 30 => 0xBF098C78#32
  | 31 => 0x3F726A03#32
  | 32 => 0xBF708FB2#32
  | 33 => 0x3F04CE53#32
  | 34 => 0x3E05A8A8#32
  | 35 => 0xBF38ECD8#32
  | 36 => 0x3F7F069E#32
  | 37 => 0xBF54DB31#32
  | 38 => 0x3E99F61C#32
  | 39 => 0x3EB9917B#32
  | 40 => 0xBF5DB3D7#32
  | 41 => 0x3F7D0543#32
  | 42 => 0xBF2CF37B#32
  | 43 => 0x3D85F213#32
  | 44 => 0x3F12D5E8#32
  | 45 => 0xBF75C5D4#32
  | 46 => 0x3F6C835E#32
  | 47 => 0xBEF64429#32
  | 48 => 0xBE31D0D4#32
  | 49 => 0x3F407893#32
  | 50 => 0xBF7FC1A0#32
  | 51 => 0x3F4E7327#32
  | 52 => 0xBE8483EE#32
  | 53 => 0xBECE34D0#32
  | 54 => 0x3F631324#32
  | 55 => 0xBF7B14BE#32
  | 56 => 0x3F248DBB#32
  | 57 => 0xBCB2B521#32
  | 58 => 0xBF1BD7CA#32
  | 59 => 0x3F78A9E0#32
  | 60 => 0xBF6803CA#32
  | 61 => 0x3EE273AA#32
  | 62 => 0x3E5DA259#32
  | 63 => 0xBF47A682#32
  | 64 => 0x3F800000#32
  | 65 => 0xBF4B1934#32
  | 66 => 0x3E8483EE#32
  | 67 => 0x3EC3EF15#32
  | 68 => 0xBF5DB3D7#32
  | 69 => 0x3F7DCF55#32
  | 70 => 0xBF3504F3#32
  | 71 => 0x3E05A8A8#32
  | 72 => 0x3F000000#32
  | 73 => 0xBF6C835E#32
  | 74 => 0x3F7746EA#32
  | 75 => 0xBF1BD7CA#32
  | 76 => 0xA553C9CA#32
  | 77 => 0x3F1BD7CA#32
  | 78 => 0xBF7746EA#32
  | 79 => 0x3F6C835E#32
  | 80 => 0xBF000000#32
  | 81 => 0xBE05A8A8#32
  | 82 => 0x3F3504F3#32
  | 83 => 0xBF7DCF55#32
  | 84 => 0x3F5DB3D7#32
  | 85 => 0xBEC3EF15#32
  | 86 => 0xBE8483EE#32
  | 87 => 0x3F4B1934#32
  | 88 => 0xBF800000#32
  | 89 => 0x3F4B1934#32
  | 90 => 0xBE8483EE#32
  | 91 => 0xBEC3EF15#32
  | 92 => 0x3F5DB3D7#32
  | 93 => 0xBF7DCF55#32
  | 94 => 0x3F3504F3#32
  | 95 => 0xBE05A8A8#32
  | 96 => 0xBF000000#32
  | 97 => 0x3F6C835E#32
  | 98 => 0xBF7746EA#32
  | 99 => 0x3F1BD7CA#32
  | 100 => 0x248D3132#32
  | 101 => 0xBF1BD7CA#32
  | 102 => 0x3F7746EA#32
  | 103 => 0xBF6C835E#32
  | 104 => 0x3F000000#32
  | 105 => 0x3E05A8A8#32
  | 106 => 0xBF3504F3#32
  | 107 => 0x3F7DCF55#32
  | 108 => 0xBF5DB3D7#32
  | 109 => 0x3EC3EF15#32
  | 110 => 0x3E8483EE#32
  | 111 => 0xBF4B1934#32
  | 112 => 0x3F800000#32
  | 113 => 0xBF4B1934#32
  | 114 => 0x3E8483EE#32
  | 115 => 0x3EC3EF15#32
  | 116 => 0xBF5DB3D7#32
  | 117 => 0x3F7DCF55#32
  | 118 => 0xBF3504F3#32
  | 119 => 0x3E05A8A8#32
  | 120 => 0x3F000000#32
  | 121 => 0xBF6C835E#32
  | 122 => 0x3F7746EA#32
  | 123 => 0xBF1BD7CA#32
  | 124 => 0xA553C9CA#32
  | 125 => 0x3F1BD7CA#32
  | 126 => 0xBF7746EA#32
  | 127 => 0x3F6C835E#32
  | _ => 0#32

noncomputable abbrev lit0t0_257 (i : Nat) : BitVec 32 := match i % 128 with
  | 0 => 0xBF000000#32
  | 1 => 0xBE05A8A8#32
  | 2 => 0x3F3504F3#32
  | 3 => 0xBF7DCF55#32
  | 4 => 0x3F5DB3D7#32
  | 5 => 0xBEC3EF15#32
  | 6 => 0xBE8483EE#32
  | 7 => 0x3F4B1934#32
  | 8 => 0xBF800000#32
  | 9 => 0x3F4B1934#32
  | 10 => 0xBE8483EE#32
  | 11 => 0xBEC3EF15#32
  | 12 => 0x3F5DB3D7#32
  | 13 => 0xBF7DCF55#32
  | 14 => 0x3F3504F3#32
  | 15 => 0xBE05A8A8#32
  | 16 => 0xBF000000#32
  | 17 => 0x3F6C835E#32
  | 18 => 0xBF7746EA#32
  | 19 => 0x3F1BD7CA#32
  | 20 => 0x248D3132#32
  | 21 => 0xBF1BD7CA#32
  | 22 => 0x3F7746EA#32
  | 23 => 0xBF6C835E#32
  | 24 => 0x3F000000#32
  | 25 => 0x3E05A8A8#32
  | 26 => 0xBF3504F3#32
  | 27 => 0x3F7DCF55#32
  | 28 => 0xBF5DB3D7#32
  | 29 => 0x3EC3EF15#32
  | 30 => 0x3E8483EE#32
  | 31 => 0xBF4B1934#32
  | 32 => 0x3F800000#32
  | 33 => 0xBF4B1934#32
  | 34 => 0x3E8483EE#32
  | 35 => 0x3EC3EF15#32
  | 36 => 0xBF5DB3D7#32
  | 37 => 0x3F7DCF55#32
  | 38 => 0xBF3504F3#32
  | 39 => 0x3E05A8A8#32
  | 40 => 0x3F000000#32
  | 41 => 0xBF6C835E#32
  | 42 => 0x3F7746EA#32
  | 43 => 0xBF1BD7CA#32
  | 44 => 0xA553C9CA#32
  | 45 => 0x3F1BD7CA#32
  | 46 => 0xBF7746EA#32
  | 47 => 0x3F6C835E#32
  | 48 => 0xBF000000#32
  | 49 => 0xBE05A8A8#32
  | 50 => 0x3F3504F3#32
  | 51 => 0xBF7DCF55#32
  | 52 => 0x3F5DB3D7#32
  | 53 => 0xBEC3EF15#32
  | 54 => 0xBE8483EE#32
  | 55 => 0x3F4B1934#32
  | 56 => 0xBF800000#32
  | 57 => 0x3F4B1934#32
  | 58 => 0xBE8483EE#32
  | 59 => 0xBEC3EF15#32
  | 60 => 0x3F5DB3D7#32
  | 61 => 0xBF7DCF55#32
  | 62 => 0x3F3504F3#32
  | 63 => 0xBE05A8A8#32
  | 64 => 0xBF000000#32
  | 65 => 0x3F6C835E#32
  | 66 => 0xBF7746EA#32
  | 67 => 0x3F1BD7CA#32
  | 68 => 0x248D3132#32
  | 69 => 0xBF1BD7CA#32
  | 70 => 0x3F7746EA#32
  | 71 => 0xBF6C835E#32
  | 72 => 0x3F000000#32
  | 73 => 0x3E05A8A8#32
  | 74 => 0xBF3504F3#32
  | 75 => 0x3F7DCF55#32
  | 76 => 0xBF5DB3D7#32
  | 77 => 0x3EC3EF15#32
  | 78 => 0x3E8483EE#32
  | 79 => 0xBF4B1934#32
  | 80 => 0x3F800000#32
  | 81 => 0xBF4B1934#32
  | 82 => 0x3E8483EE#32
  | 83 => 0x3EC3EF15#32
  | 84 => 0xBF5DB3D7#32
  | 85 => 0x3F7DCF55#32
  | 86 => 0xBF3504F3#32
  | 87 => 0x3E05A8A8#32
  | 88 => 0x3F000000#32
  | 89 => 0xBF6C835E#32
  | 90 => 0x3F7746EA#32
  | 91 => 0xBF1BD7CA#32
  | 92 => 0xA553C9CA#32
  | 93 => 0x3F1BD7CA#32
  | 94 => 0xBF7746EA#32
  | 95 => 0x3F6C835E#32
  | 96 => 0xBF000000#32
  | 97 => 0xBE05A8A8#32
  | 98 => 0x3F3504F3#32
  | 99 => 0xBF7DCF55#32
  | 100 => 0x3F5DB3D7#32
  | 101 => 0xBEC3EF15#32
  | 102 => 0xBE8483EE#32
  | 103 => 0x3F4B1934#32
  | 104 => 0xBF800000#32
  | 105 => 0x3F4B1934#32
  | 106 => 0xBE8483EE#32
  | 107 => 0xBEC3EF15#32
  | 108 => 0x3F5DB3D7#32
  | 109 => 0xBF7DCF55#32
  | 110 => 0x3F3504F3#32
  | 111 => 0xBE05A8A8#32
  | 112 => 0xBF000000#32
  | 113 => 0x3F6C835E#32
  | 114 => 0xBF7746EA#32
  | 115 => 0x3F1BD7CA#32
  | 116 => 0x248D3132#32
  | 117 => 0xBF1BD7CA#32
  | 118 => 0x3F7746EA#32
  | 119 => 0xBF6C835E#32
  | 120 => 0x3F000000#32
  | 121 => 0x3E05A8A8#32
  | 122 => 0xBF3504F3#32
  | 123 => 0x3F7DCF55#32
  | 124 => 0xBF5DB3D7#32
  | 125 => 0x3EC3EF15#32
  | 126 => 0x3E8483EE#32
  | 127 => 0xBF4B1934#32
  | _ => 0#32

noncomputable abbrev lit0t0_258 (i : Nat) : BitVec 32 := match i % 128 with
  | 0 => 0x3F800000#32
  | 1 => 0xBF4B1934#32
  | 2 => 0x3E8483EE#32
  | 3 => 0x3EC3EF15#32
  | 4 => 0xBF5DB3D7#32
  | 5 => 0x3F7DCF55#32
  | 6 => 0xBF3504F3#32
  | 7 => 0x3E05A8A8#32
  | 8 => 0x3F000000#32
  | 9 => 0xBF6C835E#32
  | 10 => 0x3F7746EA#32
  | 11 => 0xBF1BD7CA#32
  | 12 => 0xA553C9CA#32
  | 13 => 0x3F1BD7CA#32
  | 14 => 0xBF7746EA#32
  | 15 => 0x3F6C835E#32
  | 16 => 0xBF000000#32
  | 17 => 0xBE05A8A8#32
  | 18 => 0x3F3504F3#32
  | 19 => 0xBF7DCF55#32
  | 20 => 0x3F5DB3D7#32
  | 21 => 0xBEC3EF15#32
  | 22 => 0xBE8483EE#32
  | 23 => 0x3F4B1934#32
  | 24 => 0xBF800000#32
  | 25 => 0x3F4B1934#32
  | 26 => 0xBE8483EE#32
  | 27 => 0xBEC3EF15#32
  | 28 => 0x3F5DB3D7#32
  | 29 => 0xBF7DCF55#32
  | 30 => 0x3F3504F3#32
  | 31 => 0xBE05A8A8#32
  | 32 => 0xBF000000#32
  | 33 => 0x3F6C835E#32
  | 34 => 0xBF7746EA#32
  | 35 => 0x3F1BD7CA#32
  | 36 => 0x248D3132#32
  | 37 => 0xBF1BD7CA#32
  | 38 => 0x3F7746EA#32
  | 39 => 0xBF6C835E#32
  | 40 => 0x3F000000#32
  | 41 => 0x3E05A8A8#32
  | 42 => 0xBF3504F3#32
  | 43 => 0x3F7DCF55#32
  | 44 => 0xBF5DB3D7#32
  | 45 => 0x3EC3EF15#32
  | 46 => 0x3E8483EE#32
  | 47 => 0xBF4B1934#32
  | 48 => 0x3F800000#32
  | 49 => 0xBF4B1934#32
  | 50 => 0x3E8483EE#32
  | 51 => 0x3EC3EF15#32
  | 52 => 0xBF5DB3D7#32
  | 53 => 0x3F7DCF55#32
  | 54 => 0xBF3504F3#32
  | 55 => 0x3E05A8A8#32
  | 56 => 0x3F000000#32
  | 57 => 0xBF6C835E#32
  | 58 => 0x3F7746EA#32
  | 59 => 0xBF1BD7CA#32
  | 60 => 0xA553C9CA#32
  | 61 => 0x3F1BD7CA#32
  | 62 => 0xBF7746EA#32
  | 63 => 0x3F6C835E#32
  | 64 => 0xBF000000#32
  | 65 => 0xBE05A8A8#32
  | 66 => 0x3F3504F3#32
  | 67 => 0xBF7DCF55#32
  | 68 => 0x3F5DB3D7#32
  | 69 => 0xBEC3EF15#32
  | 70 => 0xBE8483EE#32
  | 71 => 0x3F4B1934#32
  | 72 => 0xBF800000#32
  | 73 => 0x3F4B1934#32
  | 74 => 0xBE8483EE#32
  | 75 => 0xBEC3EF15#32
  | 76 => 0x3F5DB3D7#32
  | 77 => 0xBF7DCF55#32
  | 78 => 0x3F3504F3#32
  | 79 => 0xBE05A8A8#32
  | 80 => 0xBF000000#32
  | 81 => 0x3F6C835E#32
  | 82 => 0xBF7746EA#32
  | 83 => 0x3F1BD7CA#32
  | 84 => 0x248D3132#32
  | 85 => 0xBF1BD7CA#32
  | 86 => 0x3F7746EA#32
  | 87 => 0xBF6C835E#32
  | 88 => 0x3F000000#32
  | 89 => 0x3E05A8A8#32
  | 90 => 0xBF3504F3#32
  | 91 => 0x3F7DCF55#32
  | 92 => 0xBF5DB3D7#32
  | 93 => 0x3EC3EF15#32
  | 94 => 0x3E8483EE#32
  | 95 => 0xBF4B1934#32
  | 96 => 0x3F800000#32
  | 97 => 0xBF4E7327#32
  | 98 => 0x3E99F61C#32
  | 99 => 0x3EA493B7#32
  | 100 => 0xBF51B3F3#32
  | 101 => 0x3F7FF067#32
  | 102 => 0xBF4B1934#32
  | 103 => 0x3E8F45C0#32
  | 104 => 0x3EAF1D44#32
  | 105 => 0xBF54DB31#32
  | 106 => 0x3F7FC1A0#32
  | 107 => 0xBF47A682#32
  | 108 => 0x3E8483EE#32
  | 109 => 0x3EB9917B#32
  | 110 => 0xBF57E880#32
  | 111 => 0x3F7F73AF#32
  | 112 => 0xBF441B7D#32
  | 113 => 0x3E7363EE#32
  | 114 => 0x3EC3EF15#32
  | 115 => 0xBF5ADB81#32
  | 116 => 0x3F7F069E#32
  | 117 => 0xBF407893#32
  | 118 => 0x3E5DA259#32
  | 119 => 0x3ECE34D0#32
  | 120 => 0xBF5DB3D7#32
  | 121 => 0x3F7E7A7A#32
  | 122 => 0xBF3CBE35#32
  | 123 => 0x3E47C5C2#32
  | 124 => 0x3ED8616C#32
  | 125 => 0xBF60712A#32
  | 126 => 0x3F7DCF55#32
  | 127 => 0xBF38ECD8#32
  | _ => 0#32

noncomputable abbrev lit0t0_259 (i : Nat) : BitVec 32 := match i % 128 with
  | 0 => 0x3E31D0D4#32
  | 1 => 0x3EE273AA#32
  | 2 => 0xBF631324#32
  | 3 => 0x3F7D0543#32
  | 4 => 0xBF3504F3#32
  | 5 => 0x3E1BC63C#32
  | 6 => 0x3EEC6A50#32
  | 7 => 0xBF659974#32
  | 8 => 0x3F7C1C5C#32
  | 9 => 0xBF310700#32
  | 10 => 0x3E05A8A8#32
  | 11 => 0x3EF64429#32
  | 12 => 0xBF6803CA#32
  | 13 => 0x3F7B14BE#32
  | 14 => 0xBF2CF37B#32
  | 15 => 0x3DDEF599#32
  | 16 => 0x3F000000#32
  | 17 => 0xBF6A51DA#32
  | 18 => 0x3F79EE89#32
  | 19 => 0xBF28CAE3#32
  | 20 => 0x3DB27EB6#32
  | 21 => 0x3F04CE53#32
  | 22 => 0xBF6C835E#32
  | 23 => 0x3F78A9E0#32
  | 24 => 0xBF248DBB#32
  | 25 => 0x3D85F213#32
  | 26 => 0x3F098C78#32
  | 27 => 0xBF6E9811#32
  | 28 => 0x3F7746EA#32
  | 29 => 0xBF203C85#32
  | 30 => 0x3D32AA3E#32
  | 31 => 0x3F0E39DA#32
  | 32 => 0xBF708FB2#32
  | 33 => 0x3F75C5D4#32
  | 34 => 0xBF1BD7CA#32
  | 35 => 0x3CB2B521#32
  | 36 => 0x3F12D5E8#32
  | 37 => 0xBF726A03#32
  | 38 => 0x3F7426CB#32
  | 39 => 0xBF176012#32
  | 40 => 0xA553C9CA#32
  | 41 => 0x3F176012#32
  | 42 => 0xBF7426CB#32
  | 43 => 0x3F726A03#32
  | 44 => 0xBF12D5E8#32
  | 45 => 0xBCB2B521#32
  | 46 => 0x3F1BD7CA#32
  | 47 => 0xBF75C5D4#32
  | 48 => 0x3F708FB2#32
  | 49 => 0xBF0E39DA#32
  | 50 => 0xBD32AA3E#32
  | 51 => 0x3F203C85#32
  | 52 => 0xBF7746EA#32
  | 53 => 0x3F6E9811#32
  | 54 => 0xBF098C78#32
  | 55 => 0xBD85F213#32
  | 56 => 0x3F248DBB#32
  | 57 => 0xBF78A9E0#32
  | 58 => 0x3F6C835E#32
  | 59 => 0xBF04CE53#32
  | 60 => 0xBDB27EB6#32
  | 61 => 0x3F28CAE3#32
  | 62 => 0xBF79EE89#32
  | 63 => 0x3F6A51DA#32
  | 64 => 0xBF000000#32
  | 65 => 0xBDDEF599#32
  | 66 => 0x3F2CF37B#32
  | 67 => 0xBF7B14BE#32
  | 68 => 0x3F6803CA#32
  | 69 => 0xBEF64429#32
  | 70 => 0xBE05A8A8#32
  | 71 => 0x3F310700#32
  | 72 => 0xBF7C1C5C#32
  | 73 => 0x3F659974#32
  | 74 => 0xBEEC6A50#32
  | 75 => 0xBE1BC63C#32
  | 76 => 0x3F3504F3#32
  | 77 => 0xBF7D0543#32
  | 78 => 0x3F631324#32
  | 79 => 0xBEE273AA#32
  | 80 => 0xBE31D0D4#32
  | 81 => 0x3F38ECD8#32
  | 82 => 0xBF7DCF55#32
  | 83 => 0x3F60712A#32
  | 84 => 0xBED8616C#32
  | 85 => 0xBE47C5C2#32
  | 86 => 0x3F3CBE35#32
  | 87 => 0xBF7E7A7A#32
  | 88 => 0x3F5DB3D7#32
  | 89 => 0xBECE34D0#32
  | 90 => 0xBE5DA259#32
  | 91 => 0x3F407893#32
  | 92 => 0xBF7F069E#32
  | 93 => 0x3F5ADB81#32
  | 94 => 0xBEC3EF15#32
  | 95 => 0xBE7363EE#32
  | 96 => 0x3F441B7D#32
  | 97 => 0xBF7F73AF#32
  | 98 => 0x3F57E880#32
  | 99 => 0xBEB9917B#32
  | 100 => 0xBE8483EE#32
  | 101 => 0x3F47A682#32
  | 102 => 0xBF7FC1A0#32
  | 103 => 0x3F54DB31#32
  | 104 => 0xBEAF1D44#32
  | 105 => 0xBE8F45C0#32
  | 106 => 0x3F4B1934#32
  | 107 => 0xBF7FF067#32
  | 108 => 0x3F51B3F3#32
  | 109 => 0xBEA493B7#32
  | 110 => 0xBE99F61C#32
  | 111 => 0x3F4E7327#32
  | 112 => 0xBF800000#32
  | 113 => 0x3F4E7327#32
  | 114 => 0xBE99F61C#32
  | 115 => 0xBEA493B7#32
  | 116 => 0x3F51B3F3#32
  | 117 => 0xBF7FF067#32
  | 118 => 0x3F4B1934#32
  | 119 => 0xBE8F45C0#32
  | 120 => 0xBEAF1D44#32
  | 121 => 0x3F54DB31#32
  | 122 => 0xBF7FC1A0#32
  | 123 => 0x3F47A682#32
  | 124 => 0xBE8483EE#32
  | 125 => 0xBEB9917B#32
  | 126 => 0x3F57E880#32
  | 127 => 0xBF7F73AF#32
  | _ => 0#32

noncomputable abbrev lit0t0_260 (i : Nat) : BitVec 32 := match i % 128 with
  | 0 => 0x3F441B7D#32
  | 1 => 0xBE7363EE#32
  | 2 => 0xBEC3EF15#32
  | 3 => 0x3F5ADB81#32
  | 4 => 0xBF7F069E#32
  | 5 => 0x3F407893#32
  | 6 => 0xBE5DA259#32
  | 7 => 0xBECE34D0#32
  | 8 => 0x3F5DB3D7#32
  | 9 => 0xBF7E7A7A#32
  | 10 => 0x3F3CBE35#32
  | 11 => 0xBE47C5C2#32
  | 12 => 0xBED8616C#32
  | 13 => 0x3F60712A#32
  | 14 => 0xBF7DCF55#32
  | 15 => 0x3F38ECD8#32
  | 16 => 0xBE31D0D4#32
  | 17 => 0xBEE273AA#32
  | 18 => 0x3F631324#32
  | 19 => 0xBF7D0543#32
  | 20 => 0x3F3504F3#32
  | 21 => 0xBE1BC63C#32
  | 22 => 0xBEEC6A50#32
  | 23 => 0x3F659974#32
  | 24 => 0xBF7C1C5C#32
  | 25 => 0x3F310700#32
  | 26 => 0xBE05A8A8#32
  | 27 => 0xBEF64429#32
  | 28 => 0x3F6803CA#32
  | 29 => 0xBF7B14BE#32
  | 30 => 0x3F2CF37B#32
  | 31 => 0xBDDEF599#32
  | 32 => 0xBF000000#32
  | 33 => 0x3F6A51DA#32
  | 34 => 0xBF79EE89#32
  | 35 => 0x3F28CAE3#32
  | 36 => 0xBDB27EB6#32
  | 37 => 0xBF04CE53#32
  | 38 => 0x3F6C835E#32
  | 39 => 0xBF78A9E0#32
  | 40 => 0x3F248DBB#32
  | 41 => 0xBD85F213#32
  | 42 => 0xBF098C78#32
  | 43 => 0x3F6E9811#32
  | 44 => 0xBF7746EA#32
  | 45 => 0x3F203C85#32
  | 46 => 0xBD32AA3E#32
  | 47 => 0xBF0E39DA#32
  | 48 => 0x3F708FB2#32
  | 49 => 0xBF75C5D4#32
  | 50 => 0x3F1BD7CA#32
  | 51 => 0xBCB2B521#32
  | 52 => 0xBF12D5E8#32
  | 53 => 0x3F726A03#32
  | 54 => 0xBF7426CB#32
  | 55 => 0x3F176012#32
  | 56 => 0x248D3132#32
  | 57 => 0xBF176012#32
  | 58 => 0x3F7426CB#32
  | 59 => 0xBF726A03#32
  | 60 => 0x3F12D5E8#32
  | 61 => 0x3CB2B521#32
  | 62 => 0xBF1BD7CA#32
  | 63 => 0x3F75C5D4#32
  | 64 => 0xBF708FB2#32
  | 65 => 0x3F0E39DA#32
  | 66 => 0x3D32AA3E#32
  | 67 => 0xBF203C85#32
  | 68 => 0x3F7746EA#32
  | 69 => 0xBF6E9811#32
  | 70 => 0x3F098C78#32
  | 71 => 0x3D85F213#32
  | 72 => 0xBF248DBB#32
  | 73 => 0x3F78A9E0#32
  | 74 => 0xBF6C835E#32
  | 75 => 0x3F04CE53#32
  | 76 => 0x3DB27EB6#32
  | 77 => 0xBF28CAE3#32
  | 78 => 0x3F79EE89#32
  | 79 => 0xBF6A51DA#32
  | 80 => 0x3F000000#32
  | 81 => 0x3DDEF599#32
  | 82 => 0xBF2CF37B#32
  | 83 => 0x3F7B14BE#32
  | 84 => 0xBF6803CA#32
  | 85 => 0x3EF64429#32
  | 86 => 0x3E05A8A8#32
  | 87 => 0xBF310700#32
  | 88 => 0x3F7C1C5C#32
  | 89 => 0xBF659974#32
  | 90 => 0x3EEC6A50#32
  | 91 => 0x3E1BC63C#32
  | 92 => 0xBF3504F3#32
  | 93 => 0x3F7D0543#32
  | 94 => 0xBF631324#32
  | 95 => 0x3EE273AA#32
  | 96 => 0x3E31D0D4#32
  | 97 => 0xBF38ECD8#32
  | 98 => 0x3F7DCF55#32
  | 99 => 0xBF60712A#32
  | 100 => 0x3ED8616C#32
  | 101 => 0x3E47C5C2#32
  | 102 => 0xBF3CBE35#32
  | 103 => 0x3F7E7A7A#32
  | 104 => 0xBF5DB3D7#32
  | 105 => 0x3ECE34D0#32
  | 106 => 0x3E5DA259#32
  | 107 => 0xBF407893#32
  | 108 => 0x3F7F069E#32
  | 109 => 0xBF5ADB81#32
  | 110 => 0x3EC3EF15#32
  | 111 => 0x3E7363EE#32
  | 112 => 0xBF441B7D#32
  | 113 => 0x3F7F73AF#32
  | 114 => 0xBF57E880#32
  | 115 => 0x3EB9917B#32
  | 116 => 0x3E8483EE#32
  | 117 => 0xBF47A682#32
  | 118 => 0x3F7FC1A0#32
  | 119 => 0xBF54DB31#32
  | 120 => 0x3EAF1D44#32
  | 121 => 0x3E8F45C0#32
  | 122 => 0xBF4B1934#32
  | 123 => 0x3F7FF067#32
  | 124 => 0xBF51B3F3#32
  | 125 => 0x3EA493B7#32
  | 126 => 0x3E99F61C#32
  | 127 => 0xBF4E7327#32
  | _ => 0#32

noncomputable abbrev lit0t0_261 (i : Nat) : BitVec 32 := match i % 128 with
  | 0 => 0x3F800000#32
  | 1 => 0xBF51B3F3#32
  | 2 => 0x3EAF1D44#32
  | 3 => 0x3E8483EE#32
  | 4 => 0xBF441B7D#32
  | 5 => 0x3F7F069E#32
  | 6 => 0xBF5DB3D7#32
  | 7 => 0x3ED8616C#32
  | 8 => 0x3E31D0D4#32
  | 9 => 0xBF3504F3#32
  | 10 => 0x3F7C1C5C#32
  | 11 => 0xBF6803CA#32
  | 12 => 0x3F000000#32
  | 13 => 0x3DB27EB6#32
  | 14 => 0xBF248DBB#32
  | 15 => 0x3F7746EA#32
  | 16 => 0xBF708FB2#32
  | 17 => 0x3F12D5E8#32
  | 18 => 0x248D3132#32
  | 19 => 0xBF12D5E8#32
  | 20 => 0x3F708FB2#32
  | 21 => 0xBF7746EA#32
  | 22 => 0x3F248DBB#32
  | 23 => 0xBDB27EB6#32
  | 24 => 0xBF000000#32
  | 25 => 0x3F6803CA#32
  | 26 => 0xBF7C1C5C#32
  | 27 => 0x3F3504F3#32
  | 28 => 0xBE31D0D4#32
  | 29 => 0xBED8616C#32
  | 30 => 0x3F5DB3D7#32
  | 31 => 0xBF7F069E#32
  | 32 => 0x3F441B7D#32
  | 33 => 0xBE8483EE#32
  | 34 => 0xBEAF1D44#32
  | 35 => 0x3F51B3F3#32
  | 36 => 0xBF800000#32
  | 37 => 0x3F51B3F3#32
  | 38 => 0xBEAF1D44#32
  | 39 => 0xBE8483EE#32
  | 40 => 0x3F441B7D#32
  | 41 => 0xBF7F069E#32
  | 42 => 0x3F5DB3D7#32
  | 43 => 0xBED8616C#32
  | 44 => 0xBE31D0D4#32
  | 45 => 0x3F3504F3#32
  | 46 => 0xBF7C1C5C#32
  | 47 => 0x3F6803CA#32
  | 48 => 0xBF000000#32
  | 49 => 0xBDB27EB6#32
  | 50 => 0x3F248DBB#32
  | 51 => 0xBF7746EA#32
  | 52 => 0x3F708FB2#32
  | 53 => 0xBF12D5E8#32
  | 54 => 0xA553C9CA#32
  | 55 => 0x3F12D5E8#32
  | 56 => 0xBF708FB2#32
  | 57 => 0x3F7746EA#32
  | 58 => 0xBF248DBB#32
  | 59 => 0x3DB27EB6#32
  | 60 => 0x3F000000#32
  | 61 => 0xBF6803CA#32
  | 62 => 0x3F7C1C5C#32
  | 63 => 0xBF3504F3#32
  | 64 => 0x3E31D0D4#32
  | 65 => 0x3ED8616C#32
  | 66 => 0xBF5DB3D7#32
  | 67 => 0x3F7F069E#32
  | 68 => 0xBF441B7D#32
  | 69 => 0x3E8483EE#32
  | 70 => 0x3EAF1D44#32
  | 71 => 0xBF51B3F3#32
  | 72 => 0x3F800000#32
  | 73 => 0xBF51B3F3#32
  | 74 => 0x3EAF1D44#32
  | 75 => 0x3E8483EE#32
  | 76 => 0xBF441B7D#32
  | 77 => 0x3F7F069E#32
  | 78 => 0xBF5DB3D7#32
  | 79 => 0x3ED8616C#32
  | 80 => 0x3E31D0D4#32
  | 81 => 0xBF3504F3#32
  | 82 => 0x3F7C1C5C#32
  | 83 => 0xBF6803CA#32
  | 84 => 0x3F000000#32
  | 85 => 0x3DB27EB6#32
  | 86 => 0xBF248DBB#32
  | 87 => 0x3F7746EA#32
  | 88 => 0xBF708FB2#32
  | 89 => 0x3F12D5E8#32
  | 90 => 0x248D3132#32
  | 91 => 0xBF12D5E8#32
  | 92 => 0x3F708FB2#32
  | 93 => 0xBF7746EA#32
  | 94 => 0x3F248DBB#32
  | 95 => 0xBDB27EB6#32
  | 96 => 0xBF000000#32
  | 97 => 0x3F6803CA#32
  | 98 => 0xBF7C1C5C#32
  | 99 => 0x3F3504F3#32
  | 100 => 0xBE31D0D4#32
  | 101 => 0xBED8616C#32
  | 102 => 0x3F5DB3D7#32
  | 103 => 0xBF7F069E#32
  | 104 => 0x3F441B7D#32
  | 105 => 0xBE8483EE#32
  | 106 => 0xBEAF1D44#32
  | 107 => 0x3F51B3F3#32
  | 108 => 0xBF800000#32
  | 109 => 0x3F51B3F3#32
  | 110 => 0xBEAF1D44#32
  | 111 => 0xBE8483EE#32
  | 112 => 0x3F441B7D#32
  | 113 => 0xBF7F069E#32
  | 114 => 0x3F5DB3D7#32
  | 115 => 0xBED8616C#32
  | 116 => 0xBE31D0D4#32
  | 117 => 0x3F3504F3#32
  | 118 => 0xBF7C1C5C#32
  | 119 => 0x3F6803CA#32
  | 120 => 0xBF000000#32
  | 121 => 0xBDB27EB6#32
  | 122 => 0x3F248DBB#32
  | 123 => 0xBF7746EA#32
  | 124 => 0x3F708FB2#32
  | 125 => 0xBF12D5E8#32
  | 126 => 0xA553C9CA#32
  | 127 => 0x3F12D5E8#32
  | _ => 0#32

noncomputable abbrev lit0t0_262 (i : Nat) : BitVec 32 := match i % 128 with
  | 0 => 0xBF708FB2#32
  | 1 => 0x3F7746EA#32
  | 2 => 0xBF248DBB#32
  | 3 => 0x3DB27EB6#32
  | 4 => 0x3F000000#32
  | 5 => 0xBF6803CA#32
  | 6 => 0x3F7C1C5C#32
  | 7 => 0xBF3504F3#32
  | 8 => 0x3E31D0D4#32
  | 9 => 0x3ED8616C#32
  | 10 => 0xBF5DB3D7#32
  | 11 => 0x3F7F069E#32
  | 12 => 0xBF441B7D#32
  | 13 => 0x3E8483EE#32
  | 14 => 0x3EAF1D44#32
  | 15 => 0xBF51B3F3#32
  | 16 => 0x3F800000#32
  | 17 => 0xBF51B3F3#32
  | 18 => 0x3EAF1D44#32
  | 19 => 0x3E8483EE#32
  | 20 => 0xBF441B7D#32
  | 21 => 0x3F7F069E#32
  | 22 => 0xBF5DB3D7#32
  | 23 => 0x3ED8616C#32
  | 24 => 0x3E31D0D4#32
  | 25 => 0xBF3504F3#32
  | 26 => 0x3F7C1C5C#32
  | 27 => 0xBF6803CA#32
  | 28 => 0x3F000000#32
  | 29 => 0x3DB27EB6#32
  | 30 => 0xBF248DBB#32
  | 31 => 0x3F7746EA#32
  | 32 => 0xBF708FB2#32
  | 33 => 0x3F12D5E8#32
  | 34 => 0x248D3132#32
  | 35 => 0xBF12D5E8#32
  | 36 => 0x3F708FB2#32
  | 37 => 0xBF7746EA#32
  | 38 => 0x3F248DBB#32
  | 39 => 0xBDB27EB6#32
  | 40 => 0xBF000000#32
  | 41 => 0x3F6803CA#32
  | 42 => 0xBF7C1C5C#32
  | 43 => 0x3F3504F3#32
  | 44 => 0xBE31D0D4#32
  | 45 => 0xBED8616C#32
  | 46 => 0x3F5DB3D7#32
  | 47 => 0xBF7F069E#32
  | 48 => 0x3F441B7D#32
  | 49 => 0xBE8483EE#32
  | 50 => 0xBEAF1D44#32
  | 51 => 0x3F51B3F3#32
  | 52 => 0xBF800000#32
  | 53 => 0x3F51B3F3#32
  | 54 => 0xBEAF1D44#32
  | 55 => 0xBE8483EE#32
  | 56 => 0x3F441B7D#32
  | 57 => 0xBF7F069E#32
  | 58 => 0x3F5DB3D7#32
  | 59 => 0xBED8616C#32
  | 60 => 0xBE31D0D4#32
  | 61 => 0x3F3504F3#32
  | 62 => 0xBF7C1C5C#32
  | 63 => 0x3F6803CA#32
  | 64 => 0xBF000000#32
  | 65 => 0xBDB27EB6#32
  | 66 => 0x3F248DBB#32
  | 67 => 0xBF7746EA#32
  | 68 => 0x3F708FB2#32
  | 69 => 0xBF12D5E8#32
  | 70 => 0xA553C9CA#32
  | 71 => 0x3F12D5E8#32
  | 72 => 0xBF708FB2#32
  | 73 => 0x3F7746EA#32
  | 74 => 0xBF248DBB#32
  | 75 => 0x3DB27EB6#32
  | 76 => 0x3F000000#32
  | 77 => 0xBF6803CA#32
  | 78 => 0x3F7C1C5C#32
  | 79 => 0xBF3504F3#32
  | 80 => 0x3E31D0D4#32
  | 81 => 0x3ED8616C#32
  | 82 => 0xBF5DB3D7#32
  | 83 => 0x3F7F069E#32
  | 84 => 0xBF441B7D#32
  | 85 => 0x3E8483EE#32
  | 86 => 0x3EAF1D44#32
  | 87 => 0xBF51B3F3#32
  | 88 => 0x3F800000#32
  | 89 => 0xBF51B3F3#32
  | 90 => 0x3EAF1D44#32
  | 91 => 0x3E8483EE#32
  | 92 => 0xBF441B7D#32
  | 93 => 0x3F7F069E#32
  | 94 => 0xBF5DB3D7#32
  | 95 => 0x3ED8616C#32
  | 96 => 0x3E31D0D4#32
  | 97 => 0xBF3504F3#32
  | 98 => 0x3F7C1C5C#32
  | 99 => 0xBF6803CA#32
  | 100 => 0x3F000000#32
  | 101 => 0x3DB27EB6#32
  | 102 => 0xBF248DBB#32
  | 103 => 0x3F7746EA#32
  | 104 => 0xBF708FB2#32
  | 105 => 0x3F12D5E8#32
  | 106 => 0x248D3132#32
  | 107 => 0xBF12D5E8#32
  | 108 => 0x3F708FB2#32
  | 109 => 0xBF7746EA#32
  | 110 => 0x3F248DBB#32
  | 111 => 0xBDB27EB6#32
  | 112 => 0xBF000000#32
  | 113 => 0x3F6803CA#32
  | 114 => 0xBF7C1C5C#32
  | 115 => 0x3F3504F3#32
  | 116 => 0xBE31D0D4#32
  | 117 => 0xBED8616C#32
  | 118 => 0x3F5DB3D7#32
  | 119 => 0xBF7F069E#32
  | 120 => 0x3F441B7D#32
  | 121 => 0xBE8483EE#32
  | 122 => 0xBEAF1D44#32
  | 123 => 0x3F51B3F3#32
  | 124 => 0xBF800000#32
  | 125 => 0x3F51B3F3#32
  | 126 => 0xBEAF1D44#32
  | 127 => 0xBE8483EE#32
  | _ => 0#32

noncomputable abbrev lit0t0_263 (i : Nat) : BitVec 32 := match i % 128 with
  | 0 => 0x3F441B7D#32
  | 1 => 0xBF7F069E#32
  | 2 => 0x3F5DB3D7#32
  | 3 => 0xBED8616C#32
  | 4 => 0xBE31D0D4#32
  | 5 => 0x3F3504F3#32
  | 6 => 0xBF7C1C5C#32
  | 7 => 0x3F6803CA#32
  | 8 => 0xBF000000#32
  | 9 => 0xBDB27EB6#32
  | 10 => 0x3F248DBB#32
  | 11 => 0xBF7746EA#32
  | 12 => 0x3F708FB2#32
  | 13 => 0xBF12D5E8#32
  | 14 => 0xA553C9CA#32
  | 15 => 0x3F12D5E8#32
  | 16 => 0xBF708FB2#32
  | 17 => 0x3F7746EA#32
  | 18 => 0xBF248DBB#32
  | 19 => 0x3DB27EB6#32
  | 20 => 0x3F000000#32
  | 21 => 0xBF6803CA#32
  | 22 => 0x3F7C1C5C#32
  | 23 => 0xBF3504F3#32
  | 24 => 0x3E31D0D4#32
  | 25 => 0x3ED8616C#32
  | 26 => 0xBF5DB3D7#32
  | 27 => 0x3F7F069E#32
  | 28 => 0xBF441B7D#32
  | 29 => 0x3E8483EE#32
  | 30 => 0x3EAF1D44#32
  | 31 => 0xBF51B3F3#32
  | 32 => 0x3F800000#32
  | 33 => 0xBF54DB31#32
  | 34 => 0x3EC3EF15#32
  | 35 => 0x3E47C5C2#32
  | 36 => 0xBF3504F3#32
  | 37 => 0x3F7B14BE#32
  | 38 => 0xBF6C835E#32
  | 39 => 0x3F0E39DA#32
  | 40 => 0x248D3132#32
  | 41 => 0xBF0E39DA#32
  | 42 => 0x3F6C835E#32
  | 43 => 0xBF7B14BE#32
  | 44 => 0x3F3504F3#32
  | 45 => 0xBE47C5C2#32
  | 46 => 0xBEC3EF15#32
  | 47 => 0x3F54DB31#32
  | 48 => 0xBF800000#32
  | 49 => 0x3F54DB31#32
  | 50 => 0xBEC3EF15#32
  | 51 => 0xBE47C5C2#32
  | 52 => 0x3F3504F3#32
  | 53 => 0xBF7B14BE#32
  | 54 => 0x3F6C835E#32
  | 55 => 0xBF0E39DA#32
  | 56 => 0xA553C9CA#32
  | 57 => 0x3F0E39DA#32
  | 58 => 0xBF6C835E#32
  | 59 => 0x3F7B14BE#32
  | 60 => 0xBF3504F3#32
  | 61 => 0x3E47C5C2#32
  | 62 => 0x3EC3EF15#32
  | 63 => 0xBF54DB31#32
  | 64 => 0x3F800000#32
  | 65 => 0xBF54DB31#32
  | 66 => 0x3EC3EF15#32
  | 67 => 0x3E47C5C2#32
  | 68 => 0xBF3504F3#32
  | 69 => 0x3F7B14BE#32
  | 70 => 0xBF6C835E#32
  | 71 => 0x3F0E39DA#32
  | 72 => 0x248D3132#32
  | 73 => 0xBF0E39DA#32
  | 74 => 0x3F6C835E#32
  | 75 => 0xBF7B14BE#32
  | 76 => 0x3F3504F3#32
  | 77 => 0xBE47C5C2#32
  | 78 => 0xBEC3EF15#32
  | 79 => 0x3F54DB31#32
  | 80 => 0xBF800000#32
  | 81 => 0x3F54DB31#32
  | 82 => 0xBEC3EF15#32
  | 83 => 0xBE47C5C2#32
  | 84 => 0x3F3504F3#32
  | 85 => 0xBF7B14BE#32
  | 86 => 0x3F6C835E#32
  | 87 => 0xBF0E39DA#32
  | 88 => 0xA553C9CA#32
  | 89 => 0x3F0E39DA#32
  | 90 => 0xBF6C835E#32
  | 91 => 0x3F7B14BE#32
  | 92 => 0xBF3504F3#32
  | 93 => 0x3E47C5C2#32
  | 94 => 0x3EC3EF15#32
  | 95 => 0xBF54DB31#32
  | 96 => 0x3F800000#32
  | 97 => 0xBF54DB31#32
  | 98 => 0x3EC3EF15#32
  | 99 => 0x3E47C5C2#32
  | 100 => 0xBF3504F3#32
  | 101 => 0x3F7B14BE#32
  | 102 => 0xBF6C835E#32
  | 103 => 0x3F0E39DA#32
  | 104 => 0x248D3132#32
  | 105 => 0xBF0E39DA#32
  | 106 => 0x3F6C835E#32
  | 107 => 0xBF7B14BE#32
  | 108 => 0x3F3504F3#32
  | 109 => 0xBE47C5C2#32
  | 110 => 0xBEC3EF15#32
  | 111 => 0x3F54DB31#32
  | 112 => 0xBF800000#32
  | 113 => 0x3F54DB31#32
  | 114 => 0xBEC3EF15#32
  | 115 => 0xBE47C5C2#32
  | 116 => 0x3F3504F3#32
  | 117 => 0xBF7B14BE#32
  | 118 => 0x3F6C835E#32
  | 119 => 0xBF0E39DA#32
  | 120 => 0xA553C9CA#32
  | 121 => 0x3F0E39DA#32
  | 122 => 0xBF6C835E#32
  | 123 => 0x3F7B14BE#32
  | 124 => 0xBF3504F3#32
  | 125 => 0x3E47C5C2#32
  | 126 => 0x3EC3EF15#32
  | 127 => 0xBF54DB31#32
  | _ => 0#32

noncomputable abbrev lit0t0_264 (i : Nat) : BitVec 32 := match i % 128 with
  | 0 => 0x3F800000#32
  | 1 => 0xBF54DB31#32
  | 2 => 0x3EC3EF15#32
  | 3 => 0x3E47C5C2#32
  | 4 => 0xBF3504F3#32
  | 5 => 0x3F7B14BE#32
  | 6 => 0xBF6C835E#32
  | 7 => 0x3F0E39DA#32
  | 8 => 0x248D3132#32
  | 9 => 0xBF0E39DA#32
  | 10 => 0x3F6C835E#32
  | 11 => 0xBF7B14BE#32
  | 12 => 0x3F3504F3#32
  | 13 => 0xBE47C5C2#32
  | 14 => 0xBEC3EF15#32
  | 15 => 0x3F54DB31#32
  | 16 => 0xBF800000#32
  | 17 => 0x3F54DB31#32
  | 18 => 0xBEC3EF15#32
  | 19 => 0xBE47C5C2#32
  | 20 => 0x3F3504F3#32
  | 21 => 0xBF7B14BE#32
  | 22 => 0x3F6C835E#32
  | 23 => 0xBF0E39DA#32
  | 24 => 0xA553C9CA#32
  | 25 => 0x3F0E39DA#32
  | 26 => 0xBF6C835E#32
  | 27 => 0x3F7B14BE#32
  | 28 => 0xBF3504F3#32
  | 29 => 0x3E47C5C2#32
  | 30 => 0x3EC3EF15#32
  | 31 => 0xBF54DB31#32
  | 32 => 0x3F800000#32
  | 33 => 0xBF54DB31#32
  | 34 => 0x3EC3EF15#32
  | 35 => 0x3E47C5C2#32
  | 36 => 0xBF3504F3#32
  | 37 => 0x3F7B14BE#32
  | 38 => 0xBF6C835E#32
  | 39 => 0x3F0E39DA#32
  | 40 => 0x248D3132#32
  | 41 => 0xBF0E39DA#32
  | 42 => 0x3F6C835E#32
  | 43 => 0xBF7B14BE#32
  | 44 => 0x3F3504F3#32
  | 45 => 0xBE47C5C2#32
  | 46 => 0xBEC3EF15#32
  | 47 => 0x3F54DB31#32
  | 48 => 0xBF800000#32
  | 49 => 0x3F54DB31#32
  | 50 => 0xBEC3EF15#32
  | 51 => 0xBE47C5C2#32
  | 52 => 0x3F3504F3#32
  | 53 => 0xBF7B14BE#32
  | 54 => 0x3F6C835E#32
  | 55 => 0xBF0E39DA#32
  | 56 => 0xA553C9CA#32
  | 57 => 0x3F0E39DA#32
  | 58 => 0xBF6C835E#32
  | 59 => 0x3F7B14BE#32
  | 60 => 0xBF3504F3#32
  | 61 => 0x3E47C5C2#32
  | 62 => 0x3EC3EF15#32
  | 63 => 0xBF54DB31#32
  | 64 => 0x3F800000#32
  | 65 => 0xBF54DB31#32
  | 66 => 0x3EC3EF15#32
  | 67 => 0x3E47C5C2#32
  | 68 => 0xBF3504F3#32
  | 69 => 0x3F7B14BE#32
  | 70 => 0xBF6C835E#32
  | 71 => 0x3F0E39DA#32
  | 72 => 0x248D3132#32
  | 73 => 0xBF0E39DA#32
  | 74 => 0x3F6C835E#32
  | 75 => 0xBF7B14BE#32
  | 76 => 0x3F3504F3#32
  | 77 => 0xBE47C5C2#32
  | 78 => 0xBEC3EF15#32
  | 79 => 0x3F54DB31#32
  | 80 => 0xBF800000#32
  | 81 => 0x3F54DB31#32
  | 82 => 0xBEC3EF15#32
  | 83 => 0xBE47C5C2#32
  | 84 => 0x3F3504F3#32
  | 85 => 0xBF7B14BE#32
  | 86 => 0x3F6C835E#32
  | 87 => 0xBF0E39DA#32
  | 88 => 0xA553C9CA#32
  | 89 => 0x3F0E39DA#32
  | 90 => 0xBF6C835E#32
  | 91 => 0x3F7B14BE#32
  | 92 => 0xBF3504F3#32
  | 93 => 0x3E47C5C2#32
  | 94 => 0x3EC3EF15#32
  | 95 => 0xBF54DB31#32
  | 96 => 0x3F800000#32
  | 97 => 0xBF54DB31#32
  | 98 => 0x3EC3EF15#32
  | 99 => 0x3E47C5C2#32
  | 100 => 0xBF3504F3#32
  | 101 => 0x3F7B14BE#32
  | 102 => 0xBF6C835E#32
  | 103 => 0x3F0E39DA#32
  | 104 => 0x248D3132#32
  | 105 => 0xBF0E39DA#32
  | 106 => 0x3F6C835E#32
  | 107 => 0xBF7B14BE#32
  | 108 => 0x3F3504F3#32
  | 109 => 0xBE47C5C2#32
  | 110 => 0xBEC3EF15#32
  | 111 => 0x3F54DB31#32
  | 112 => 0xBF800000#32
  | 113 => 0x3F54DB31#32
  | 114 => 0xBEC3EF15#32
  | 115 => 0xBE47C5C2#32
  | 116 => 0x3F3504F3#32
  | 117 => 0xBF7B14BE#32
  | 118 => 0x3F6C835E#32
  | 119 => 0xBF0E39DA#32
  | 120 => 0xA553C9CA#32
  | 121 => 0x3F0E39DA#32
  | 122 => 0xBF6C835E#32
  | 123 => 0x3F7B14BE#32
  | 124 => 0xBF3504F3#32
  | 125 => 0x3E47C5C2#32
  | 126 => 0x3EC3EF15#32
  | 127 => 0xBF54DB31#32
  | _ => 0#32

noncomputable abbrev lit0t0_265 (i : Nat) : BitVec 32 := match i % 128 with
  | 0 => 0x3F800000#32
  | 1 => 0xBF54DB31#32
  | 2 => 0x3EC3EF15#32
  | 3 => 0x3E47C5C2#32
  | 4 => 0xBF3504F3#32
  | 5 => 0x3F7B14BE#32
  | 6 => 0xBF6C835E#32
  | 7 => 0x3F0E39DA#32
  | 8 => 0x248D3132#32
  | 9 => 0xBF0E39DA#32
  | 10 => 0x3F6C835E#32
  | 11 => 0xBF7B14BE#32
  | 12 => 0x3F3504F3#32
  | 13 => 0xBE47C5C2#32
  | 14 => 0xBEC3EF15#32
  | 15 => 0x3F54DB31#32
  | 16 => 0xBF800000#32
  | 17 => 0x3F54DB31#32
  | 18 => 0xBEC3EF15#32
  | 19 => 0xBE47C5C2#32
  | 20 => 0x3F3504F3#32
  | 21 => 0xBF7B14BE#32
  | 22 => 0x3F6C835E#32
  | 23 => 0xBF0E39DA#32
  | 24 => 0xA553C9CA#32
  | 25 => 0x3F0E39DA#32
  | 26 => 0xBF6C835E#32
  | 27 => 0x3F7B14BE#32
  | 28 => 0xBF3504F3#32
  | 29 => 0x3E47C5C2#32
  | 30 => 0x3EC3EF15#32
  | 31 => 0xBF54DB31#32
  | 32 => 0x3F800000#32
  | 33 => 0xBF54DB31#32
  | 34 => 0x3EC3EF15#32
  | 35 => 0x3E47C5C2#32
  | 36 => 0xBF3504F3#32
  | 37 => 0x3F7B14BE#32
  | 38 => 0xBF6C835E#32
  | 39 => 0x3F0E39DA#32
  | 40 => 0x248D3132#32
  | 41 => 0xBF0E39DA#32
  | 42 => 0x3F6C835E#32
  | 43 => 0xBF7B14BE#32
  | 44 => 0x3F3504F3#32
  | 45 => 0xBE47C5C2#32
  | 46 => 0xBEC3EF15#32
  | 47 => 0x3F54DB31#32
  | 48 => 0xBF800000#32
  | 49 => 0x3F54DB31#32
  | 50 => 0xBEC3EF15#32
  | 51 => 0xBE47C5C2#32
  | 52 => 0x3F3504F3#32
  | 53 => 0xBF7B14BE#32
  | 54 => 0x3F6C835E#32
  | 55 => 0xBF0E39DA#32
  | 56 => 0xA553C9CA#32
  | 57 => 0x3F0E39DA#32
  | 58 => 0xBF6C835E#32
  | 59 => 0x3F7B14BE#32
  | 60 => 0xBF3504F3#32
  | 61 => 0x3E47C5C2#32
  | 62 => 0x3EC3EF15#32
  | 63 => 0xBF54DB31#32
  | 64 => 0x3F800000#32
  | 65 => 0xBF57E880#32
  | 66 => 0x3ED8616C#32
  | 67 => 0x3E05A8A8#32
  | 68 => 0xBF248DBB#32
  | 69 => 0x3F7426CB#32
  | 70 => 0xBF7746EA#32
  | 71 => 0x3F2CF37B#32
  | 72 => 0xBE31D0D4#32
  | 73 => 0xBEC3EF15#32
  | 74 => 0x3F51B3F3#32
  | 75 => 0xBF7FC1A0#32
  | 76 => 0x3F5DB3D7#32
  | 77 => 0xBEEC6A50#32
  | 78 => 0xBDB27EB6#32
  | 79 => 0x3F1BD7CA#32
  | 80 => 0xBF708FB2#32
  | 81 => 0x3F79EE89#32
  | 82 => 0xBF3504F3#32
  | 83 => 0x3E5DA259#32
  | 84 => 0x3EAF1D44#32
  | 85 => 0xBF4B1934#32
  | 86 => 0x3F7F069E#32
  | 87 => 0xBF631324#32
  | 88 => 0x3F000000#32
  | 89 => 0x3D32AA3E#32
  | 90 => 0xBF12D5E8#32
  | 91 => 0x3F6C835E#32
  | 92 => 0xBF7C1C5C#32
  | 93 => 0x3F3CBE35#32
  | 94 => 0xBE8483EE#32
  | 95 => 0xBE99F61C#32
  | 96 => 0x3F441B7D#32
  | 97 => 0xBF7DCF55#32
  | 98 => 0x3F6803CA#32
  | 99 => 0xBF098C78#32
  | 100 => 0xA553C9CA#32
  | 101 => 0x3F098C78#32
  | 102 => 0xBF6803CA#32
  | 103 => 0x3F7DCF55#32
  | 104 => 0xBF441B7D#32
  | 105 => 0x3E99F61C#32
  | 106 => 0x3E8483EE#32
  | 107 => 0xBF3CBE35#32
  | 108 => 0x3F7C1C5C#32
  | 109 => 0xBF6C835E#32
  | 110 => 0x3F12D5E8#32
  | 111 => 0xBD32AA3E#32
  | 112 => 0xBF000000#32
  | 113 => 0x3F631324#32
  | 114 => 0xBF7F069E#32
  | 115 => 0x3F4B1934#32
  | 116 => 0xBEAF1D44#32
  | 117 => 0xBE5DA259#32
  | 118 => 0x3F3504F3#32
  | 119 => 0xBF79EE89#32
  | 120 => 0x3F708FB2#32
  | 121 => 0xBF1BD7CA#32
  | 122 => 0x3DB27EB6#32
  | 123 => 0x3EEC6A50#32
  | 124 => 0xBF5DB3D7#32
  | 125 => 0x3F7FC1A0#32
  | 126 => 0xBF51B3F3#32
  | 127 => 0x3EC3EF15#32
  | _ => 0#32

noncomputable abbrev lit0t0_266 (i : Nat) : BitVec 32 := match i % 128 with
  | 0 => 0x3E31D0D4#32
  | 1 => 0xBF2CF37B#32
  | 2 => 0x3F7746EA#32
  | 3 => 0xBF7426CB#32
  | 4 => 0x3F248DBB#32
  | 5 => 0xBE05A8A8#32
  | 6 => 0xBED8616C#32
  | 7 => 0x3F57E880#32
  | 8 => 0xBF800000#32
  | 9 => 0x3F57E880#32
  | 10 => 0xBED8616C#32
  | 11 => 0xBE05A8A8#32
  | 12 => 0x3F248DBB#32
  | 13 => 0xBF7426CB#32
  | 14 => 0x3F7746EA#32
  | 15 => 0xBF2CF37B#32
  | 16 => 0x3E31D0D4#32
  | 17 => 0x3EC3EF15#32
  | 18 => 0xBF51B3F3#32
  | 19 => 0x3F7FC1A0#32
  | 20 => 0xBF5DB3D7#32
  | 21 => 0x3EEC6A50#32
  | 22 => 0x3DB27EB6#32
  | 23 => 0xBF1BD7CA#32
  | 24 => 0x3F708FB2#32
  | 25 => 0xBF79EE89#32
  | 26 => 0x3F3504F3#32
  | 27 => 0xBE5DA259#32
  | 28 => 0xBEAF1D44#32
  | 29 => 0x3F4B1934#32
  | 30 => 0xBF7F069E#32
  | 31 => 0x3F631324#32
  | 32 => 0xBF000000#32
  | 33 => 0xBD32AA3E#32
  | 34 => 0x3F12D5E8#32
  | 35 => 0xBF6C835E#32
  | 36 => 0x3F7C1C5C#32
  | 37 => 0xBF3CBE35#32
  | 38 => 0x3E8483EE#32
  | 39 => 0x3E99F61C#32
  | 40 => 0xBF441B7D#32
  | 41 => 0x3F7DCF55#32
  | 42 => 0xBF6803CA#32
  | 43 => 0x3F098C78#32
  | 44 => 0x248D3132#32
  | 45 => 0xBF098C78#32
  | 46 => 0x3F6803CA#32
  | 47 => 0xBF7DCF55#32
  | 48 => 0x3F441B7D#32
  | 49 => 0xBE99F61C#32
  | 50 => 0xBE8483EE#32
  | 51 => 0x3F3CBE35#32
  | 52 => 0xBF7C1C5C#32
  | 53 => 0x3F6C835E#32
  | 54 => 0xBF12D5E8#32
  | 55 => 0x3D32AA3E#32
  | 56 => 0x3F000000#32
  | 57 => 0xBF631324#32
  | 58 => 0x3F7F069E#32
  | 59 => 0xBF4B1934#32
  | 60 => 0x3EAF1D44#32
  | 61 => 0x3E5DA259#32
  | 62 => 0xBF3504F3#32
  | 63 => 0x3F79EE89#32
  | 64 => 0xBF708FB2#32
  | 65 => 0x3F1BD7CA#32
  | 66 => 0xBDB27EB6#32
  | 67 => 0xBEEC6A50#32
  | 68 => 0x3F5DB3D7#32
  | 69 => 0xBF7FC1A0#32
  | 70 => 0x3F51B3F3#32
  | 71 => 0xBEC3EF15#32
  | 72 => 0xBE31D0D4#32
  | 73 => 0x3F2CF37B#32
  | 74 => 0xBF7746EA#32
  | 75 => 0x3F7426CB#32
  | 76 => 0xBF248DBB#32
  | 77 => 0x3E05A8A8#32
  | 78 => 0x3ED8616C#32
  | 79 => 0xBF57E880#32
  | 80 => 0x3F800000#32
  | 81 => 0xBF57E880#32
  | 82 => 0x3ED8616C#32
  | 83 => 0x3E05A8A8#32
  | 84 => 0xBF248DBB#32
  | 85 => 0x3F7426CB#32
  | 86 => 0xBF7746EA#32
  | 87 => 0x3F2CF37B#32
  | 88 => 0xBE31D0D4#32
  | 89 => 0xBEC3EF15#32
  | 90 => 0x3F51B3F3#32
  | 91 => 0xBF7FC1A0#32
  | 92 => 0x3F5DB3D7#32
  | 93 => 0xBEEC6A50#32
  | 94 => 0xBDB27EB6#32
  | 95 => 0x3F1BD7CA#32
  | 96 => 0xBF708FB2#32
  | 97 => 0x3F79EE89#32
  | 98 => 0xBF3504F3#32
  | 99 => 0x3E5DA259#32
  | 100 => 0x3EAF1D44#32
  | 101 => 0xBF4B1934#32
  | 102 => 0x3F7F069E#32
  | 103 => 0xBF631324#32
  | 104 => 0x3F000000#32
  | 105 => 0x3D32AA3E#32
  | 106 => 0xBF12D5E8#32
  | 107 => 0x3F6C835E#32
  | 108 => 0xBF7C1C5C#32
  | 109 => 0x3F3CBE35#32
  | 110 => 0xBE8483EE#32
  | 111 => 0xBE99F61C#32
  | 112 => 0x3F441B7D#32
  | 113 => 0xBF7DCF55#32
  | 114 => 0x3F6803CA#32
  | 115 => 0xBF098C78#32
  | 116 => 0xA553C9CA#32
  | 117 => 0x3F098C78#32
  | 118 => 0xBF6803CA#32
  | 119 => 0x3F7DCF55#32
  | 120 => 0xBF441B7D#32
  | 121 => 0x3E99F61C#32
  | 122 => 0x3E8483EE#32
  | 123 => 0xBF3CBE35#32
  | 124 => 0x3F7C1C5C#32
  | 125 => 0xBF6C835E#32
  | 126 => 0x3F12D5E8#32
  | 127 => 0xBD32AA3E#32
  | _ => 0#32

noncomputable abbrev lit0t0_267 (i : Nat) : BitVec 32 := match i % 128 with
  | 0 => 0xBF000000#32
  | 1 => 0x3F631324#32
  | 2 => 0xBF7F069E#32
  | 3 => 0x3F4B1934#32
  | 4 => 0xBEAF1D44#32
  | 5 => 0xBE5DA259#32
  | 6 => 0x3F3504F3#32
  | 7 => 0xBF79EE89#32
  | 8 => 0x3F708FB2#32
  | 9 => 0xBF1BD7CA#32
  | 10 => 0x3DB27EB6#32
  | 11 => 0x3EEC6A50#32
  | 12 => 0xBF5DB3D7#32
  | 13 => 0x3F7FC1A0#32
  | 14 => 0xBF51B3F3#32
  | 15 => 0x3EC3EF15#32
  | 16 => 0x3E31D0D4#32
  | 17 => 0xBF2CF37B#32
  | 18 => 0x3F7746EA#32
  | 19 => 0xBF7426CB#32
  | 20 => 0x3F248DBB#32
  | 21 => 0xBE05A8A8#32
  | 22 => 0xBED8616C#32
  | 23 => 0x3F57E880#32
  | 24 => 0xBF800000#32
  | 25 => 0x3F57E880#32
  | 26 => 0xBED8616C#32
  | 27 => 0xBE05A8A8#32
  | 28 => 0x3F248DBB#32
  | 29 => 0xBF7426CB#32
  | 30 => 0x3F7746EA#32
  | 31 => 0xBF2CF37B#32
  | 32 => 0x3E31D0D4#32
  | 33 => 0x3EC3EF15#32
  | 34 => 0xBF51B3F3#32
  | 35 => 0x3F7FC1A0#32
  | 36 => 0xBF5DB3D7#32
  | 37 => 0x3EEC6A50#32
  | 38 => 0x3DB27EB6#32
  | 39 => 0xBF1BD7CA#32
  | 40 => 0x3F708FB2#32
  | 41 => 0xBF79EE89#32
  | 42 => 0x3F3504F3#32
  | 43 => 0xBE5DA259#32
  | 44 => 0xBEAF1D44#32
  | 45 => 0x3F4B1934#32
  | 46 => 0xBF7F069E#32
  | 47 => 0x3F631324#32
  | 48 => 0xBF000000#32
  | 49 => 0xBD32AA3E#32
  | 50 => 0x3F12D5E8#32
  | 51 => 0xBF6C835E#32
  | 52 => 0x3F7C1C5C#32
  | 53 => 0xBF3CBE35#32
  | 54 => 0x3E8483EE#32
  | 55 => 0x3E99F61C#32
  | 56 => 0xBF441B7D#32
  | 57 => 0x3F7DCF55#32
  | 58 => 0xBF6803CA#32
  | 59 => 0x3F098C78#32
  | 60 => 0x248D3132#32
  | 61 => 0xBF098C78#32
  | 62 => 0x3F6803CA#32
  | 63 => 0xBF7DCF55#32
  | 64 => 0x3F441B7D#32
  | 65 => 0xBE99F61C#32
  | 66 => 0xBE8483EE#32
  | 67 => 0x3F3CBE35#32
  | 68 => 0xBF7C1C5C#32
  | 69 => 0x3F6C835E#32
  | 70 => 0xBF12D5E8#32
  | 71 => 0x3D32AA3E#32
  | 72 => 0x3F000000#32
  | 73 => 0xBF631324#32
  | 74 => 0x3F7F069E#32
  | 75 => 0xBF4B1934#32
  | 76 => 0x3EAF1D44#32
  | 77 => 0x3E5DA259#32
  | 78 => 0xBF3504F3#32
  | 79 => 0x3F79EE89#32
  | 80 => 0xBF708FB2#32
  | 81 => 0x3F1BD7CA#32
  | 82 => 0xBDB27EB6#32
  | 83 => 0xBEEC6A50#32
  | 84 => 0x3F5DB3D7#32
  | 85 => 0xBF7FC1A0#32
  | 86 => 0x3F51B3F3#32
  | 87 => 0xBEC3EF15#32
  | 88 => 0xBE31D0D4#32
  | 89 => 0x3F2CF37B#32
  | 90 => 0xBF7746EA#32
  | 91 => 0x3F7426CB#32
  | 92 => 0xBF248DBB#32
  | 93 => 0x3E05A8A8#32
  | 94 => 0x3ED8616C#32
  | 95 => 0xBF57E880#32
  | 96 => 0x3F800000#32
  | 97 => 0xBF5ADB81#32
  | 98 => 0x3EEC6A50#32
  | 99 => 0x3D85F213#32
  | 100 => 0xBF12D5E8#32
  | 101 => 0x3F6A51DA#32
  | 102 => 0xBF7DCF55#32
  | 103 => 0x3F47A682#32
  | 104 => 0xBEAF1D44#32
  | 105 => 0xBE47C5C2#32
  | 106 => 0x3F2CF37B#32
  | 107 => 0xBF75C5D4#32
  | 108 => 0x3F7746EA#32
  | 109 => 0xBF310700#32
  | 110 => 0x3E5DA259#32
  | 111 => 0x3EA493B7#32
  | 112 => 0xBF441B7D#32
  | 113 => 0x3F7D0543#32
  | 114 => 0xBF6C835E#32
  | 115 => 0x3F176012#32
  | 116 => 0xBDB27EB6#32
  | 117 => 0xBEE273AA#32
  | 118 => 0x3F57E880#32
  | 119 => 0xBF7FF067#32
  | 120 => 0x3F5DB3D7#32
  | 121 => 0xBEF64429#32
  | 122 => 0xBD32AA3E#32
  | 123 => 0x3F0E39DA#32
  | 124 => 0xBF6803CA#32
  | 125 => 0x3F7E7A7A#32
  | 126 => 0xBF4B1934#32
  | 127 => 0x3EB9917B#32
  | _ => 0#32

noncomputable abbrev lit0t0_268 (i : Nat) : BitVec 32 := match i % 128 with
  | 0 => 0x3E31D0D4#32
  | 1 => 0xBF28CAE3#32
  | 2 => 0x3F7426CB#32
  | 3 => 0xBF78A9E0#32
  | 4 => 0x3F3504F3#32
  | 5 => 0xBE7363EE#32
  | 6 => 0xBE99F61C#32
  | 7 => 0x3F407893#32
  | 8 => 0xBF7C1C5C#32
  | 9 => 0x3F6E9811#32
  | 10 => 0xBF1BD7CA#32
  | 11 => 0x3DDEF599#32
  | 12 => 0x3ED8616C#32
  | 13 => 0xBF54DB31#32
  | 14 => 0x3F7FC1A0#32
  | 15 => 0xBF60712A#32
  | 16 => 0x3F000000#32
  | 17 => 0x3CB2B521#32
  | 18 => 0xBF098C78#32
  | 19 => 0x3F659974#32
  | 20 => 0xBF7F069E#32
  | 21 => 0x3F4E7327#32
  | 22 => 0xBEC3EF15#32
  | 23 => 0xBE1BC63C#32
  | 24 => 0x3F248DBB#32
  | 25 => 0xBF726A03#32
  | 26 => 0x3F79EE89#32
  | 27 => 0xBF38ECD8#32
  | 28 => 0x3E8483EE#32
  | 29 => 0x3E8F45C0#32
  | 30 => 0xBF3CBE35#32
  | 31 => 0x3F7B14BE#32
  | 32 => 0xBF708FB2#32
  | 33 => 0x3F203C85#32
  | 34 => 0xBE05A8A8#32
  | 35 => 0xBECE34D0#32
  | 36 => 0x3F51B3F3#32
  | 37 => 0xBF7F73AF#32
  | 38 => 0x3F631324#32
  | 39 => 0xBF04CE53#32
  | 40 => 0xA553C9CA#32
  | 41 => 0x3F04CE53#32
  | 42 => 0xBF631324#32
  | 43 => 0x3F7F73AF#32
  | 44 => 0xBF51B3F3#32
  | 45 => 0x3ECE34D0#32
  | 46 => 0x3E05A8A8#32
  | 47 => 0xBF203C85#32
  | 48 => 0x3F708FB2#32
  | 49 => 0xBF7B14BE#32
  | 50 => 0x3F3CBE35#32
  | 51 => 0xBE8F45C0#32
  | 52 => 0xBE8483EE#32
  | 53 => 0x3F38ECD8#32
  | 54 => 0xBF79EE89#32
  | 55 => 0x3F726A03#32
  | 56 => 0xBF248DBB#32
  | 57 => 0x3E1BC63C#32
  | 58 => 0x3EC3EF15#32
  | 59 => 0xBF4E7327#32
  | 60 => 0x3F7F069E#32
  | 61 => 0xBF659974#32
  | 62 => 0x3F098C78#32
  | 63 => 0xBCB2B521#32
  | 64 => 0xBF000000#32
  | 65 => 0x3F60712A#32
  | 66 => 0xBF7FC1A0#32
  | 67 => 0x3F54DB31#32
  | 68 => 0xBED8616C#32
  | 69 => 0xBDDEF599#32
  | 70 => 0x3F1BD7CA#32
  | 71 => 0xBF6E9811#32
  | 72 => 0x3F7C1C5C#32
  | 73 => 0xBF407893#32
  | 74 => 0x3E99F61C#32
  | 75 => 0x3E7363EE#32
  | 76 => 0xBF3504F3#32
  | 77 => 0x3F78A9E0#32
  | 78 => 0xBF7426CB#32
  | 79 => 0x3F28CAE3#32
  | 80 => 0xBE31D0D4#32
  | 81 => 0xBEB9917B#32
  | 82 => 0x3F4B1934#32
  | 83 => 0xBF7E7A7A#32
  | 84 => 0x3F6803CA#32
  | 85 => 0xBF0E39DA#32
  | 86 => 0x3D32AA3E#32
  | 87 => 0x3EF64429#32
  | 88 => 0xBF5DB3D7#32
  | 89 => 0x3F7FF067#32
  | 90 => 0xBF57E880#32
  | 91 => 0x3EE273AA#32
  | 92 => 0x3DB27EB6#32
  | 93 => 0xBF176012#32
  | 94 => 0x3F6C835E#32
  | 95 => 0xBF7D0543#32
  | 96 => 0x3F441B7D#32
  | 97 => 0xBEA493B7#32
  | 98 => 0xBE5DA259#32
  | 99 => 0x3F310700#32
  | 100 => 0xBF7746EA#32
  | 101 => 0x3F75C5D4#32
  | 102 => 0xBF2CF37B#32
  | 103 => 0x3E47C5C2#32
  | 104 => 0x3EAF1D44#32
  | 105 => 0xBF47A682#32
  | 106 => 0x3F7DCF55#32
  | 107 => 0xBF6A51DA#32
  | 108 => 0x3F12D5E8#32
  | 109 => 0xBD85F213#32
  | 110 => 0xBEEC6A50#32
  | 111 => 0x3F5ADB81#32
  | 112 => 0xBF800000#32
  | 113 => 0x3F5ADB81#32
  | 114 => 0xBEEC6A50#32
  | 115 => 0xBD85F213#32
  | 116 => 0x3F12D5E8#32
  | 117 => 0xBF6A51DA#32
  | 118 => 0x3F7DCF55#32
  | 119 => 0xBF47A682#32
  | 120 => 0x3EAF1D44#32
  | 121 => 0x3E47C5C2#32
  | 122 => 0xBF2CF37B#32
  | 123 => 0x3F75C5D4#32
  | 124 => 0xBF7746EA#32
  | 125 => 0x3F310700#32
  | 126 => 0xBE5DA259#32
  | 127 => 0xBEA493B7#32
  | _ => 0#32

noncomputable abbrev lit0t0_269 (i : Nat) : BitVec 32 := match i % 128 with
  | 0 => 0x3F441B7D#32
  | 1 => 0xBF7D0543#32
  | 2 => 0x3F6C835E#32
  | 3 => 0xBF176012#32
  | 4 => 0x3DB27EB6#32
  | 5 => 0x3EE273AA#32
  | 6 => 0xBF57E880#32
  | 7 => 0x3F7FF067#32
  | 8 => 0xBF5DB3D7#32
  | 9 => 0x3EF64429#32
  | 10 => 0x3D32AA3E#32
  | 11 => 0xBF0E39DA#32
  | 12 => 0x3F6803CA#32
  | 13 => 0xBF7E7A7A#32
  | 14 => 0x3F4B1934#32
  | 15 => 0xBEB9917B#32
  | 16 => 0xBE31D0D4#32
  | 17 => 0x3F28CAE3#32
  | 18 => 0xBF7426CB#32
  | 19 => 0x3F78A9E0#32
  | 20 => 0xBF3504F3#32
  | 21 => 0x3E7363EE#32
  | 22 => 0x3E99F61C#32
  | 23 => 0xBF407893#32
  | 24 => 0x3F7C1C5C#32
  | 25 => 0xBF6E9811#32
  | 26 => 0x3F1BD7CA#32
  | 27 => 0xBDDEF599#32
  | 28 => 0xBED8616C#32
  | 29 => 0x3F54DB31#32
  | 30 => 0xBF7FC1A0#32
  | 31 => 0x3F60712A#32
  | 32 => 0xBF000000#32
  | 33 => 0xBCB2B521#32
  | 34 => 0x3F098C78#32
  | 35 => 0xBF659974#32
  | 36 => 0x3F7F069E#32
  | 37 => 0xBF4E7327#32
  | 38 => 0x3EC3EF15#32
  | 39 => 0x3E1BC63C#32
  | 40 => 0xBF248DBB#32
  | 41 => 0x3F726A03#32
  | 42 => 0xBF79EE89#32
  | 43 => 0x3F38ECD8#32
  | 44 => 0xBE8483EE#32
  | 45 => 0xBE8F45C0#32
  | 46 => 0x3F3CBE35#32
  | 47 => 0xBF7B14BE#32
  | 48 => 0x3F708FB2#32
  | 49 => 0xBF203C85#32
  | 50 => 0x3E05A8A8#32
  | 51 => 0x3ECE34D0#32
  | 52 => 0xBF51B3F3#32
  | 53 => 0x3F7F73AF#32
  | 54 => 0xBF631324#32
  | 55 => 0x3F04CE53#32
  | 56 => 0x248D3132#32
  | 57 => 0xBF04CE53#32
  | 58 => 0x3F631324#32
  | 59 => 0xBF7F73AF#32
  | 60 => 0x3F51B3F3#32
  | 61 => 0xBECE34D0#32
  | 62 => 0xBE05A8A8#32
  | 63 => 0x3F203C85#32
  | 64 => 0xBF708FB2#32
  | 65 => 0x3F7B14BE#32
  | 66 => 0xBF3CBE35#32
  | 67 => 0x3E8F45C0#32
  | 68 => 0x3E8483EE#32
  | 69 => 0xBF38ECD8#32
  | 70 => 0x3F79EE89#32
  | 71 => 0xBF726A03#32
  | 72 => 0x3F248DBB#32
  | 73 => 0xBE1BC63C#32
  | 74 => 0xBEC3EF15#32
  | 75 => 0x3F4E7327#32
  | 76 => 0xBF7F069E#32
  | 77 => 0x3F659974#32
  | 78 => 0xBF098C78#32
  | 79 => 0x3CB2B521#32
  | 80 => 0x3F000000#32
  | 81 => 0xBF60712A#32
  | 82 => 0x3F7FC1A0#32
  | 83 => 0xBF54DB31#32
  | 84 => 0x3ED8616C#32
  | 85 => 0x3DDEF599#32
  | 86 => 0xBF1BD7CA#32
  | 87 => 0x3F6E9811#32
  | 88 => 0xBF7C1C5C#32
  | 89 => 0x3F407893#32
  | 90 => 0xBE99F61C#32
  | 91 => 0xBE7363EE#32
  | 92 => 0x3F3504F3#32
  | 93 => 0xBF78A9E0#32
  | 94 => 0x3F7426CB#32
  | 95 => 0xBF28CAE3#32
  | 96 => 0x3E31D0D4#32
  | 97 => 0x3EB9917B#32
  | 98 => 0xBF4B1934#32
  | 99 => 0x3F7E7A7A#32
  | 100 => 0xBF6803CA#32
  | 101 => 0x3F0E39DA#32
  | 102 => 0xBD32AA3E#32
  | 103 => 0xBEF64429#32
  | 104 => 0x3F5DB3D7#32
  | 105 => 0xBF7FF067#32
  | 106 => 0x3F57E880#32
  | 107 => 0xBEE273AA#32
  | 108 => 0xBDB27EB6#32
  | 109 => 0x3F176012#32
  | 110 => 0xBF6C835E#32
  | 111 => 0x3F7D0543#32
  | 112 => 0xBF441B7D#32
  | 113 => 0x3EA493B7#32
  | 114 => 0x3E5DA259#32
  | 115 => 0xBF310700#32
  | 116 => 0x3F7746EA#32
  | 117 => 0xBF75C5D4#32
  | 118 => 0x3F2CF37B#32
  | 119 => 0xBE47C5C2#32
  | 120 => 0xBEAF1D44#32
  | 121 => 0x3F47A682#32
  | 122 => 0xBF7DCF55#32
  | 123 => 0x3F6A51DA#32
  | 124 => 0xBF12D5E8#32
  | 125 => 0x3D85F213#32
  | 126 => 0x3EEC6A50#32
  | 127 => 0xBF5ADB81#32
  | _ => 0#32

noncomputable abbrev lit0t0_270 (i : Nat) : BitVec 32 := match i % 128 with
  | 0 => 0x3F800000#32
  | 1 => 0xBF5DB3D7#32
  | 2 => 0x3F000000#32
  | 3 => 0x248D3132#32
  | 4 => 0xBF000000#32
  | 5 => 0x3F5DB3D7#32
  | 6 => 0xBF800000#32
  | 7 => 0x3F5DB3D7#32
  | 8 => 0xBF000000#32
  | 9 => 0xA553C9CA#32
  | 10 => 0x3F000000#32
  | 11 => 0xBF5DB3D7#32
  | 12 => 0x3F800000#32
  | 13 => 0xBF5DB3D7#32
  | 14 => 0x3F000000#32
  | 15 => 0x248D3132#32
  | 16 => 0xBF000000#32
  | 17 => 0x3F5DB3D7#32
  | 18 => 0xBF800000#32
  | 19 => 0x3F5DB3D7#32
  | 20 => 0xBF000000#32
  | 21 => 0xA553C9CA#32
  | 22 => 0x3F000000#32
  | 23 => 0xBF5DB3D7#32
  | 24 => 0x3F800000#32
  | 25 => 0xBF5DB3D7#32
  | 26 => 0x3F000000#32
  | 27 => 0x248D3132#32
  | 28 => 0xBF000000#32
  | 29 => 0x3F5DB3D7#32
  | 30 => 0xBF800000#32
  | 31 => 0x3F5DB3D7#32
  | 32 => 0xBF000000#32
  | 33 => 0xA553C9CA#32
  | 34 => 0x3F000000#32
  | 35 => 0xBF5DB3D7#32
  | 36 => 0x3F800000#32
  | 37 => 0xBF5DB3D7#32
  | 38 => 0x3F000000#32
  | 39 => 0x248D3132#32
  | 40 => 0xBF000000#32
  | 41 => 0x3F5DB3D7#32
  | 42 => 0xBF800000#32
  | 43 => 0x3F5DB3D7#32
  | 44 => 0xBF000000#32
  | 45 => 0xA553C9CA#32
  | 46 => 0x3F000000#32
  | 47 => 0xBF5DB3D7#32
  | 48 => 0x3F800000#32
  | 49 => 0xBF5DB3D7#32
  | 50 => 0x3F000000#32
  | 51 => 0x248D3132#32
  | 52 => 0xBF000000#32
  | 53 => 0x3F5DB3D7#32
  | 54 => 0xBF800000#32
  | 55 => 0x3F5DB3D7#32
  | 56 => 0xBF000000#32
  | 57 => 0xA553C9CA#32
  | 58 => 0x3F000000#32
  | 59 => 0xBF5DB3D7#32
  | 60 => 0x3F800000#32
  | 61 => 0xBF5DB3D7#32
  | 62 => 0x3F000000#32
  | 63 => 0x248D3132#32
  | 64 => 0xBF000000#32
  | 65 => 0x3F5DB3D7#32
  | 66 => 0xBF800000#32
  | 67 => 0x3F5DB3D7#32
  | 68 => 0xBF000000#32
  | 69 => 0xA553C9CA#32
  | 70 => 0x3F000000#32
  | 71 => 0xBF5DB3D7#32
  | 72 => 0x3F800000#32
  | 73 => 0xBF5DB3D7#32
  | 74 => 0x3F000000#32
  | 75 => 0x248D3132#32
  | 76 => 0xBF000000#32
  | 77 => 0x3F5DB3D7#32
  | 78 => 0xBF800000#32
  | 79 => 0x3F5DB3D7#32
  | 80 => 0xBF000000#32
  | 81 => 0xA553C9CA#32
  | 82 => 0x3F000000#32
  | 83 => 0xBF5DB3D7#32
  | 84 => 0x3F800000#32
  | 85 => 0xBF5DB3D7#32
  | 86 => 0x3F000000#32
  | 87 => 0x248D3132#32
  | 88 => 0xBF000000#32
  | 89 => 0x3F5DB3D7#32
  | 90 => 0xBF800000#32
  | 91 => 0x3F5DB3D7#32
  | 92 => 0xBF000000#32
  | 93 => 0xA553C9CA#32
  | 94 => 0x3F000000#32
  | 95 => 0xBF5DB3D7#32
  | 96 => 0x3F800000#32
  | 97 => 0xBF5DB3D7#32
  | 98 => 0x3F000000#32
  | 99 => 0x248D3132#32
  | 100 => 0xBF000000#32
  | 101 => 0x3F5DB3D7#32
  | 102 => 0xBF800000#32
  | 103 => 0x3F5DB3D7#32
  | 104 => 0xBF000000#32
  | 105 => 0xA553C9CA#32
  | 106 => 0x3F000000#32
  | 107 => 0xBF5DB3D7#32
  | 108 => 0x3F800000#32
  | 109 => 0xBF5DB3D7#32
  | 110 => 0x3F000000#32
  | 111 => 0x248D3132#32
  | 112 => 0xBF000000#32
  | 113 => 0x3F5DB3D7#32
  | 114 => 0xBF800000#32
  | 115 => 0x3F5DB3D7#32
  | 116 => 0xBF000000#32
  | 117 => 0xA553C9CA#32
  | 118 => 0x3F000000#32
  | 119 => 0xBF5DB3D7#32
  | 120 => 0x3F800000#32
  | 121 => 0xBF5DB3D7#32
  | 122 => 0x3F000000#32
  | 123 => 0x248D3132#32
  | 124 => 0xBF000000#32
  | 125 => 0x3F5DB3D7#32
  | 126 => 0xBF800000#32
  | 127 => 0x3F5DB3D7#32
  | _ => 0#32

noncomputable abbrev lit0t0_271 (i : Nat) : BitVec 32 := match i % 128 with
  | 0 => 0xBF000000#32
  | 1 => 0xA553C9CA#32
  | 2 => 0x3F000000#32
  | 3 => 0xBF5DB3D7#32
  | 4 => 0x3F800000#32
  | 5 => 0xBF5DB3D7#32
  | 6 => 0x3F000000#32
  | 7 => 0x248D3132#32
  | 8 => 0xBF000000#32
  | 9 => 0x3F5DB3D7#32
  | 10 => 0xBF800000#32
  | 11 => 0x3F5DB3D7#32
  | 12 => 0xBF000000#32
  | 13 => 0xA553C9CA#32
  | 14 => 0x3F000000#32
  | 15 => 0xBF5DB3D7#32
  | 16 => 0x3F800000#32
  | 17 => 0xBF5DB3D7#32
  | 18 => 0x3F000000#32
  | 19 => 0x248D3132#32
  | 20 => 0xBF000000#32
  | 21 => 0x3F5DB3D7#32
  | 22 => 0xBF800000#32
  | 23 => 0x3F5DB3D7#32
  | 24 => 0xBF000000#32
  | 25 => 0xA553C9CA#32
  | 26 => 0x3F000000#32
  | 27 => 0xBF5DB3D7#32
  | 28 => 0x3F800000#32
  | 29 => 0xBF5DB3D7#32
  | 30 => 0x3F000000#32
  | 31 => 0x248D3132#32
  | 32 => 0xBF000000#32
  | 33 => 0x3F5DB3D7#32
  | 34 => 0xBF800000#32
  | 35 => 0x3F5DB3D7#32
  | 36 => 0xBF000000#32
  | 37 => 0xA553C9CA#32
  | 38 => 0x3F000000#32
  | 39 => 0xBF5DB3D7#32
  | 40 => 0x3F800000#32
  | 41 => 0xBF5DB3D7#32
  | 42 => 0x3F000000#32
  | 43 => 0x248D3132#32
  | 44 => 0xBF000000#32
  | 45 => 0x3F5DB3D7#32
  | 46 => 0xBF800000#32
  | 47 => 0x3F5DB3D7#32
  | 48 => 0xBF000000#32
  | 49 => 0xA553C9CA#32
  | 50 => 0x3F000000#32
  | 51 => 0xBF5DB3D7#32
  | 52 => 0x3F800000#32
  | 53 => 0xBF5DB3D7#32
  | 54 => 0x3F000000#32
  | 55 => 0x248D3132#32
  | 56 => 0xBF000000#32
  | 57 => 0x3F5DB3D7#32
  | 58 => 0xBF800000#32
  | 59 => 0x3F5DB3D7#32
  | 60 => 0xBF000000#32
  | 61 => 0xA553C9CA#32
  | 62 => 0x3F000000#32
  | 63 => 0xBF5DB3D7#32
  | 64 => 0x3F800000#32
  | 65 => 0xBF5DB3D7#32
  | 66 => 0x3F000000#32
  | 67 => 0x248D3132#32
  | 68 => 0xBF000000#32
  | 69 => 0x3F5DB3D7#32
  | 70 => 0xBF800000#32
  | 71 => 0x3F5DB3D7#32
  | 72 => 0xBF000000#32
  | 73 => 0xA553C9CA#32
  | 74 => 0x3F000000#32
  | 75 => 0xBF5DB3D7#32
  | 76 => 0x3F800000#32
  | 77 => 0xBF5DB3D7#32
  | 78 => 0x3F000000#32
  | 79 => 0x248D3132#32
  | 80 => 0xBF000000#32
  | 81 => 0x3F5DB3D7#32
  | 82 => 0xBF800000#32
  | 83 => 0x3F5DB3D7#32
  | 84 => 0xBF000000#32
  | 85 => 0xA553C9CA#32
  | 86 => 0x3F000000#32
  | 87 => 0xBF5DB3D7#32
  | 88 => 0x3F800000#32
  | 89 => 0xBF5DB3D7#32
  | 90 => 0x3F000000#32
  | 91 => 0x248D3132#32
  | 92 => 0xBF000000#32
  | 93 => 0x3F5DB3D7#32
  | 94 => 0xBF800000#32
  | 95 => 0x3F5DB3D7#32
  | 96 => 0xBF000000#32
  | 97 => 0xA553C9CA#32
  | 98 => 0x3F000000#32
  | 99 => 0xBF5DB3D7#32
  | 100 => 0x3F800000#32
  | 101 => 0xBF5DB3D7#32
  | 102 => 0x3F000000#32
  | 103 => 0x248D3132#32
  | 104 => 0xBF000000#32
  | 105 => 0x3F5DB3D7#32
  | 106 => 0xBF800000#32
  | 107 => 0x3F5DB3D7#32
  | 108 => 0xBF000000#32
  | 109 => 0xA553C9CA#32
  | 110 => 0x3F000000#32
  | 111 => 0xBF5DB3D7#32
  | 112 => 0x3F800000#32
  | 113 => 0xBF5DB3D7#32
  | 114 => 0x3F000000#32
  | 115 => 0x248D3132#32
  | 116 => 0xBF000000#32
  | 117 => 0x3F5DB3D7#32
  | 118 => 0xBF800000#32
  | 119 => 0x3F5DB3D7#32
  | 120 => 0xBF000000#32
  | 121 => 0xA553C9CA#32
  | 122 => 0x3F000000#32
  | 123 => 0xBF5DB3D7#32
  | 124 => 0x3F800000#32
  | 125 => 0xBF5DB3D7#32
  | 126 => 0x3F000000#32
  | 127 => 0x248D3132#32
  | _ => 0#32

noncomputable abbrev lit0t0_272 (i : Nat) : BitVec 32 := match i % 128 with
  | 0 => 0xBF000000#32
  | 1 => 0x3F5DB3D7#32
  | 2 => 0xBF800000#32
  | 3 => 0x3F5DB3D7#32
  | 4 => 0xBF000000#32
  | 5 => 0xA553C9CA#32
  | 6 => 0x3F000000#32
  | 7 => 0xBF5DB3D7#32
  | 8 => 0x3F800000#32
  | 9 => 0xBF5DB3D7#32
  | 10 => 0x3F000000#32
  | 11 => 0x248D3132#32
  | 12 => 0xBF000000#32
  | 13 => 0x3F5DB3D7#32
  | 14 => 0xBF800000#32
  | 15 => 0x3F5DB3D7#32
  | 16 => 0xBF000000#32
  | 17 => 0xA553C9CA#32
  | 18 => 0x3F000000#32
  | 19 => 0xBF5DB3D7#32
  | 20 => 0x3F800000#32
  | 21 => 0xBF5DB3D7#32
  | 22 => 0x3F000000#32
  | 23 => 0x248D3132#32
  | 24 => 0xBF000000#32
  | 25 => 0x3F5DB3D7#32
  | 26 => 0xBF800000#32
  | 27 => 0x3F5DB3D7#32
  | 28 => 0xBF000000#32
  | 29 => 0xA553C9CA#32
  | 30 => 0x3F000000#32
  | 31 => 0xBF5DB3D7#32
  | 32 => 0x3F800000#32
  | 33 => 0xBF60712A#32
  | 34 => 0x3F098C78#32
  | 35 => 0xBD85F213#32
  | 36 => 0xBED8616C#32
  | 37 => 0x3F4E7327#32
  | 38 => 0xBF7DCF55#32
  | 39 => 0x3F6E9811#32
  | 40 => 0xBF248DBB#32
  | 41 => 0x3E47C5C2#32
  | 42 => 0x3E99F61C#32
  | 43 => 0xBF38ECD8#32
  | 44 => 0x3F7746EA#32
  | 45 => 0xBF78A9E0#32
  | 46 => 0x3F3CBE35#32
  | 47 => 0xBEA493B7#32
  | 48 => 0xBE31D0D4#32
  | 49 => 0x3F203C85#32
  | 50 => 0xBF6C835E#32
  | 51 => 0x3F7E7A7A#32
  | 52 => 0xBF51B3F3#32
  | 53 => 0x3EE273AA#32
  | 54 => 0x3D32AA3E#32
  | 55 => 0xBF04CE53#32
  | 56 => 0x3F5DB3D7#32
  | 57 => 0xBF7FF067#32
  | 58 => 0x3F631324#32
  | 59 => 0xBF0E39DA#32
  | 60 => 0x3DB27EB6#32
  | 61 => 0x3ECE34D0#32
  | 62 => 0xBF4B1934#32
  | 63 => 0x3F7D0543#32
  | 64 => 0xBF708FB2#32
  | 65 => 0x3F28CAE3#32
  | 66 => 0xBE5DA259#32
  | 67 => 0xBE8F45C0#32
  | 68 => 0x3F3504F3#32
  | 69 => 0xBF75C5D4#32
  | 70 => 0x3F79EE89#32
  | 71 => 0xBF407893#32
  | 72 => 0x3EAF1D44#32
  | 73 => 0x3E1BC63C#32
  | 74 => 0xBF1BD7CA#32
  | 75 => 0x3F6A51DA#32
  | 76 => 0xBF7F069E#32
  | 77 => 0x3F54DB31#32
  | 78 => 0xBEEC6A50#32
  | 79 => 0xBCB2B521#32
  | 80 => 0x3F000000#32
  | 81 => 0xBF5ADB81#32
  | 82 => 0x3F7FC1A0#32
  | 83 => 0xBF659974#32
  | 84 => 0x3F12D5E8#32
  | 85 => 0xBDDEF599#32
  | 86 => 0xBEC3EF15#32
  | 87 => 0x3F47A682#32
  | 88 => 0xBF7C1C5C#32
  | 89 => 0x3F726A03#32
  | 90 => 0xBF2CF37B#32
  | 91 => 0x3E7363EE#32
  | 92 => 0x3E8483EE#32
  | 93 => 0xBF310700#32
  | 94 => 0x3F7426CB#32
  | 95 => 0xBF7B14BE#32
  | 96 => 0x3F441B7D#32
  | 97 => 0xBEB9917B#32
  | 98 => 0xBE05A8A8#32
  | 99 => 0x3F176012#32
  | 100 => 0xBF6803CA#32
  | 101 => 0x3F7F73AF#32
  | 102 => 0xBF57E880#32
  | 103 => 0x3EF64429#32
  | 104 => 0x248D3132#32
  | 105 => 0xBEF64429#32
  | 106 => 0x3F57E880#32
  | 107 => 0xBF7F73AF#32
  | 108 => 0x3F6803CA#32
  | 109 => 0xBF176012#32
  | 110 => 0x3E05A8A8#32
  | 111 => 0x3EB9917B#32
  | 112 => 0xBF441B7D#32
  | 113 => 0x3F7B14BE#32
  | 114 => 0xBF7426CB#32
  | 115 => 0x3F310700#32
  | 116 => 0xBE8483EE#32
  | 117 => 0xBE7363EE#32
  | 118 => 0x3F2CF37B#32
  | 119 => 0xBF726A03#32
  | 120 => 0x3F7C1C5C#32
  | 121 => 0xBF47A682#32
  | 122 => 0x3EC3EF15#32
  | 123 => 0x3DDEF599#32
  | 124 => 0xBF12D5E8#32
  | 125 => 0x3F659974#32
  | 126 => 0xBF7FC1A0#32
  | 127 => 0x3F5ADB81#32
  | _ => 0#32

noncomputable abbrev lit0t0_273 (i : Nat) : BitVec 32 := match i % 128 with
  | 0 => 0xBF000000#32
  | 1 => 0x3CB2B521#32
  | 2 => 0x3EEC6A50#32
  | 3 => 0xBF54DB31#32
  | 4 => 0x3F7F069E#32
  | 5 => 0xBF6A51DA#32
  | 6 => 0x3F1BD7CA#32
  | 7 => 0xBE1BC63C#32
  | 8 => 0xBEAF1D44#32
  | 9 => 0x3F407893#32
  | 10 => 0xBF79EE89#32
  | 11 => 0x3F75C5D4#32
  | 12 => 0xBF3504F3#32
  | 13 => 0x3E8F45C0#32
  | 14 => 0x3E5DA259#32
  | 15 => 0xBF28CAE3#32
  | 16 => 0x3F708FB2#32
  | 17 => 0xBF7D0543#32
  | 18 => 0x3F4B1934#32
  | 19 => 0xBECE34D0#32
  | 20 => 0xBDB27EB6#32
  | 21 => 0x3F0E39DA#32
  | 22 => 0xBF631324#32
  | 23 => 0x3F7FF067#32
  | 24 => 0xBF5DB3D7#32
  | 25 => 0x3F04CE53#32
  | 26 => 0xBD32AA3E#32
  | 27 => 0xBEE273AA#32
  | 28 => 0x3F51B3F3#32
  | 29 => 0xBF7E7A7A#32
  | 30 => 0x3F6C835E#32
  | 31 => 0xBF203C85#32
  | 32 => 0x3E31D0D4#32
  | 33 => 0x3EA493B7#32
  | 34 => 0xBF3CBE35#32
  | 35 => 0x3F78A9E0#32
  | 36 => 0xBF7746EA#32
  | 37 => 0x3F38ECD8#32
  | 38 => 0xBE99F61C#32
  | 39 => 0xBE47C5C2#32
  | 40 => 0x3F248DBB#32
  | 41 => 0xBF6E9811#32
  | 42 => 0x3F7DCF55#32
  | 43 => 0xBF4E7327#32
  | 44 => 0x3ED8616C#32
  | 45 => 0x3D85F213#32
  | 46 => 0xBF098C78#32
  | 47 => 0x3F60712A#32
  | 48 => 0xBF800000#32
  | 49 => 0x3F60712A#32
  | 50 => 0xBF098C78#32
  | 51 => 0x3D85F213#32
  | 52 => 0x3ED8616C#32
  | 53 => 0xBF4E7327#32
  | 54 => 0x3F7DCF55#32
  | 55 => 0xBF6E9811#32
  | 56 => 0x3F248DBB#32
  | 57 => 0xBE47C5C2#32
  | 58 => 0xBE99F61C#32
  | 59 => 0x3F38ECD8#32
  | 60 => 0xBF7746EA#32
  | 61 => 0x3F78A9E0#32
  | 62 => 0xBF3CBE35#32
  | 63 => 0x3EA493B7#32
  | 64 => 0x3E31D0D4#32
  | 65 => 0xBF203C85#32
  | 66 => 0x3F6C835E#32
  | 67 => 0xBF7E7A7A#32
  | 68 => 0x3F51B3F3#32
  | 69 => 0xBEE273AA#32
  | 70 => 0xBD32AA3E#32
  | 71 => 0x3F04CE53#32
  | 72 => 0xBF5DB3D7#32
  | 73 => 0x3F7FF067#32
  | 74 => 0xBF631324#32
  | 75 => 0x3F0E39DA#32
  | 76 => 0xBDB27EB6#32
  | 77 => 0xBECE34D0#32
  | 78 => 0x3F4B1934#32
  | 79 => 0xBF7D0543#32
  | 80 => 0x3F708FB2#32
  | 81 => 0xBF28CAE3#32
  | 82 => 0x3E5DA259#32
  | 83 => 0x3E8F45C0#32
  | 84 => 0xBF3504F3#32
  | 85 => 0x3F75C5D4#32
  | 86 => 0xBF79EE89#32
  | 87 => 0x3F407893#32
  | 88 => 0xBEAF1D44#32
  | 89 => 0xBE1BC63C#32
  | 90 => 0x3F1BD7CA#32
  | 91 => 0xBF6A51DA#32
  | 92 => 0x3F7F069E#32
  | 93 => 0xBF54DB31#32
  | 94 => 0x3EEC6A50#32
  | 95 => 0x3CB2B521#32
  | 96 => 0xBF000000#32
  | 97 => 0x3F5ADB81#32
  | 98 => 0xBF7FC1A0#32
  | 99 => 0x3F659974#32
  | 100 => 0xBF12D5E8#32
  | 101 => 0x3DDEF599#32
  | 102 => 0x3EC3EF15#32
  | 103 => 0xBF47A682#32
  | 104 => 0x3F7C1C5C#32
  | 105 => 0xBF726A03#32
  | 106 => 0x3F2CF37B#32
  | 107 => 0xBE7363EE#32
  | 108 => 0xBE8483EE#32
  | 109 => 0x3F310700#32
  | 110 => 0xBF7426CB#32
  | 111 => 0x3F7B14BE#32
  | 112 => 0xBF441B7D#32
  | 113 => 0x3EB9917B#32
  | 114 => 0x3E05A8A8#32
  | 115 => 0xBF176012#32
  | 116 => 0x3F6803CA#32
  | 117 => 0xBF7F73AF#32
  | 118 => 0x3F57E880#32
  | 119 => 0xBEF64429#32
  | 120 => 0xA553C9CA#32
  | 121 => 0x3EF64429#32
  | 122 => 0xBF57E880#32
  | 123 => 0x3F7F73AF#32
  | 124 => 0xBF6803CA#32
  | 125 => 0x3F176012#32
  | 126 => 0xBE05A8A8#32
  | 127 => 0xBEB9917B#32
  | _ => 0#32

noncomputable abbrev lit0t0_274 (i : Nat) : BitVec 32 := match i % 128 with
  | 0 => 0x3F441B7D#32
  | 1 => 0xBF7B14BE#32
  | 2 => 0x3F7426CB#32
  | 3 => 0xBF310700#32
  | 4 => 0x3E8483EE#32
  | 5 => 0x3E7363EE#32
  | 6 => 0xBF2CF37B#32
  | 7 => 0x3F726A03#32
  | 8 => 0xBF7C1C5C#32
  | 9 => 0x3F47A682#32
  | 10 => 0xBEC3EF15#32
  | 11 => 0xBDDEF599#32
  | 12 => 0x3F12D5E8#32
  | 13 => 0xBF659974#32
  | 14 => 0x3F7FC1A0#32
  | 15 => 0xBF5ADB81#32
  | 16 => 0x3F000000#32
  | 17 => 0xBCB2B521#32
  | 18 => 0xBEEC6A50#32
  | 19 => 0x3F54DB31#32
  | 20 => 0xBF7F069E#32
  | 21 => 0x3F6A51DA#32
  | 22 => 0xBF1BD7CA#32
  | 23 => 0x3E1BC63C#32
  | 24 => 0x3EAF1D44#32
  | 25 => 0xBF407893#32
  | 26 => 0x3F79EE89#32
  | 27 => 0xBF75C5D4#32
  | 28 => 0x3F3504F3#32
  | 29 => 0xBE8F45C0#32
  | 30 => 0xBE5DA259#32
  | 31 => 0x3F28CAE3#32
  | 32 => 0xBF708FB2#32
  | 33 => 0x3F7D0543#32
  | 34 => 0xBF4B1934#32
  | 35 => 0x3ECE34D0#32
  | 36 => 0x3DB27EB6#32
  | 37 => 0xBF0E39DA#32
  | 38 => 0x3F631324#32
  | 39 => 0xBF7FF067#32
  | 40 => 0x3F5DB3D7#32
  | 41 => 0xBF04CE53#32
  | 42 => 0x3D32AA3E#32
  | 43 => 0x3EE273AA#32
  | 44 => 0xBF51B3F3#32
  | 45 => 0x3F7E7A7A#32
  | 46 => 0xBF6C835E#32
  | 47 => 0x3F203C85#32
  | 48 => 0xBE31D0D4#32
  | 49 => 0xBEA493B7#32
  | 50 => 0x3F3CBE35#32
  | 51 => 0xBF78A9E0#32
  | 52 => 0x3F7746EA#32
  | 53 => 0xBF38ECD8#32
  | 54 => 0x3E99F61C#32
  | 55 => 0x3E47C5C2#32
  | 56 => 0xBF248DBB#32
  | 57 => 0x3F6E9811#32
  | 58 => 0xBF7DCF55#32
  | 59 => 0x3F4E7327#32
  | 60 => 0xBED8616C#32
  | 61 => 0xBD85F213#32
  | 62 => 0x3F098C78#32
  | 63 => 0xBF60712A#32
  | 64 => 0x3F800000#32
  | 65 => 0xBF631324#32
  | 66 => 0x3F12D5E8#32
  | 67 => 0xBE05A8A8#32
  | 68 => 0xBEAF1D44#32
  | 69 => 0x3F3CBE35#32
  | 70 => 0xBF7746EA#32
  | 71 => 0x3F79EE89#32
  | 72 => 0xBF441B7D#32
  | 73 => 0x3EC3EF15#32
  | 74 => 0x3DB27EB6#32
  | 75 => 0xBF098C78#32
  | 76 => 0x3F5DB3D7#32
  | 77 => 0xBF7FC1A0#32
  | 78 => 0x3F6803CA#32
  | 79 => 0xBF1BD7CA#32
  | 80 => 0x3E31D0D4#32
  | 81 => 0x3E99F61C#32
  | 82 => 0xBF3504F3#32
  | 83 => 0x3F7426CB#32
  | 84 => 0xBF7C1C5C#32
  | 85 => 0x3F4B1934#32
  | 86 => 0xBED8616C#32
  | 87 => 0xBD32AA3E#32
  | 88 => 0x3F000000#32
  | 89 => 0xBF57E880#32
  | 90 => 0x3F7F069E#32
  | 91 => 0xBF6C835E#32
  | 92 => 0x3F248DBB#32
  | 93 => 0xBE5DA259#32
  | 94 => 0xBE8483EE#32
  | 95 => 0x3F2CF37B#32
  | 96 => 0xBF708FB2#32
  | 97 => 0x3F7DCF55#32
  | 98 => 0xBF51B3F3#32
  | 99 => 0x3EEC6A50#32
  | 100 => 0x248D3132#32
  | 101 => 0xBEEC6A50#32
  | 102 => 0x3F51B3F3#32
  | 103 => 0xBF7DCF55#32
  | 104 => 0x3F708FB2#32
  | 105 => 0xBF2CF37B#32
  | 106 => 0x3E8483EE#32
  | 107 => 0x3E5DA259#32
  | 108 => 0xBF248DBB#32
  | 109 => 0x3F6C835E#32
  | 110 => 0xBF7F069E#32
  | 111 => 0x3F57E880#32
  | 112 => 0xBF000000#32
  | 113 => 0x3D32AA3E#32
  | 114 => 0x3ED8616C#32
  | 115 => 0xBF4B1934#32
  | 116 => 0x3F7C1C5C#32
  | 117 => 0xBF7426CB#32
  | 118 => 0x3F3504F3#32
  | 119 => 0xBE99F61C#32
  | 120 => 0xBE31D0D4#32
  | 121 => 0x3F1BD7CA#32
  | 122 => 0xBF6803CA#32
  | 123 => 0x3F7FC1A0#32
  | 124 => 0xBF5DB3D7#32
  | 125 => 0x3F098C78#32
  | 126 => 0xBDB27EB6#32
  | 127 => 0xBEC3EF15#32
  | _ => 0#32

noncomputable abbrev lit0t0_275 (i : Nat) : BitVec 32 := match i % 128 with
  | 0 => 0x3F441B7D#32
  | 1 => 0xBF79EE89#32
  | 2 => 0x3F7746EA#32
  | 3 => 0xBF3CBE35#32
  | 4 => 0x3EAF1D44#32
  | 5 => 0x3E05A8A8#32
  | 6 => 0xBF12D5E8#32
  | 7 => 0x3F631324#32
  | 8 => 0xBF800000#32
  | 9 => 0x3F631324#32
  | 10 => 0xBF12D5E8#32
  | 11 => 0x3E05A8A8#32
  | 12 => 0x3EAF1D44#32
  | 13 => 0xBF3CBE35#32
  | 14 => 0x3F7746EA#32
  | 15 => 0xBF79EE89#32
  | 16 => 0x3F441B7D#32
  | 17 => 0xBEC3EF15#32
  | 18 => 0xBDB27EB6#32
  | 19 => 0x3F098C78#32
  | 20 => 0xBF5DB3D7#32
  | 21 => 0x3F7FC1A0#32
  | 22 => 0xBF6803CA#32
  | 23 => 0x3F1BD7CA#32
  | 24 => 0xBE31D0D4#32
  | 25 => 0xBE99F61C#32
  | 26 => 0x3F3504F3#32
  | 27 => 0xBF7426CB#32
  | 28 => 0x3F7C1C5C#32
  | 29 => 0xBF4B1934#32
  | 30 => 0x3ED8616C#32
  | 31 => 0x3D32AA3E#32
  | 32 => 0xBF000000#32
  | 33 => 0x3F57E880#32
  | 34 => 0xBF7F069E#32
  | 35 => 0x3F6C835E#32
  | 36 => 0xBF248DBB#32
  | 37 => 0x3E5DA259#32
  | 38 => 0x3E8483EE#32
  | 39 => 0xBF2CF37B#32
  | 40 => 0x3F708FB2#32
  | 41 => 0xBF7DCF55#32
  | 42 => 0x3F51B3F3#32
  | 43 => 0xBEEC6A50#32
  | 44 => 0xA553C9CA#32
  | 45 => 0x3EEC6A50#32
  | 46 => 0xBF51B3F3#32
  | 47 => 0x3F7DCF55#32
  | 48 => 0xBF708FB2#32
  | 49 => 0x3F2CF37B#32
  | 50 => 0xBE8483EE#32
  | 51 => 0xBE5DA259#32
  | 52 => 0x3F248DBB#32
  | 53 => 0xBF6C835E#32
  | 54 => 0x3F7F069E#32
  | 55 => 0xBF57E880#32
  | 56 => 0x3F000000#32
  | 57 => 0xBD32AA3E#32
  | 58 => 0xBED8616C#32
  | 59 => 0x3F4B1934#32
  | 60 => 0xBF7C1C5C#32
  | 61 => 0x3F7426CB#32
  | 62 => 0xBF3504F3#32
  | 63 => 0x3E99F61C#32
  | 64 => 0x3E31D0D4#32
  | 65 => 0xBF1BD7CA#32
  | 66 => 0x3F6803CA#32
  | 67 => 0xBF7FC1A0#32
  | 68 => 0x3F5DB3D7#32
  | 69 => 0xBF098C78#32
  | 70 => 0x3DB27EB6#32
  | 71 => 0x3EC3EF15#32
  | 72 => 0xBF441B7D#32
  | 73 => 0x3F79EE89#32
  | 74 => 0xBF7746EA#32
  | 75 => 0x3F3CBE35#32
  | 76 => 0xBEAF1D44#32
  | 77 => 0xBE05A8A8#32
  | 78 => 0x3F12D5E8#32
  | 79 => 0xBF631324#32
  | 80 => 0x3F800000#32
  | 81 => 0xBF631324#32
  | 82 => 0x3F12D5E8#32
  | 83 => 0xBE05A8A8#32
  | 84 => 0xBEAF1D44#32
  | 85 => 0x3F3CBE35#32
  | 86 => 0xBF7746EA#32
  | 87 => 0x3F79EE89#32
  | 88 => 0xBF441B7D#32
  | 89 => 0x3EC3EF15#32
  | 90 => 0x3DB27EB6#32
  | 91 => 0xBF098C78#32
  | 92 => 0x3F5DB3D7#32
  | 93 => 0xBF7FC1A0#32
  | 94 => 0x3F6803CA#32
  | 95 => 0xBF1BD7CA#32
  | 96 => 0x3E31D0D4#32
  | 97 => 0x3E99F61C#32
  | 98 => 0xBF3504F3#32
  | 99 => 0x3F7426CB#32
  | 100 => 0xBF7C1C5C#32
  | 101 => 0x3F4B1934#32
  | 102 => 0xBED8616C#32
  | 103 => 0xBD32AA3E#32
  | 104 => 0x3F000000#32
  | 105 => 0xBF57E880#32
  | 106 => 0x3F7F069E#32
  | 107 => 0xBF6C835E#32
  | 108 => 0x3F248DBB#32
  | 109 => 0xBE5DA259#32
  | 110 => 0xBE8483EE#32
  | 111 => 0x3F2CF37B#32
  | 112 => 0xBF708FB2#32
  | 113 => 0x3F7DCF55#32
  | 114 => 0xBF51B3F3#32
  | 115 => 0x3EEC6A50#32
  | 116 => 0x248D3132#32
  | 117 => 0xBEEC6A50#32
  | 118 => 0x3F51B3F3#32
  | 119 => 0xBF7DCF55#32
  | 120 => 0x3F708FB2#32
  | 121 => 0xBF2CF37B#32
  | 122 => 0x3E8483EE#32
  | 123 => 0x3E5DA259#32
  | 124 => 0xBF248DBB#32
  | 125 => 0x3F6C835E#32
  | 126 => 0xBF7F069E#32
  | 127 => 0x3F57E880#32
  | _ => 0#32

noncomputable abbrev lit0t0_276 (i : Nat) : BitVec 32 := match i % 128 with
  | 0 => 0xBF000000#32
  | 1 => 0x3D32AA3E#32
  | 2 => 0x3ED8616C#32
  | 3 => 0xBF4B1934#32
  | 4 => 0x3F7C1C5C#32
  | 5 => 0xBF7426CB#32
  | 6 => 0x3F3504F3#32
  | 7 => 0xBE99F61C#32
  | 8 => 0xBE31D0D4#32
  | 9 => 0x3F1BD7CA#32
  | 10 => 0xBF6803CA#32
  | 11 => 0x3F7FC1A0#32
  | 12 => 0xBF5DB3D7#32
  | 13 => 0x3F098C78#32
  | 14 => 0xBDB27EB6#32
  | 15 => 0xBEC3EF15#32
  | 16 => 0x3F441B7D#32
  | 17 => 0xBF79EE89#32
  | 18 => 0x3F7746EA#32
  | 19 => 0xBF3CBE35#32
  | 20 => 0x3EAF1D44#32
  | 21 => 0x3E05A8A8#32
  | 22 => 0xBF12D5E8#32
  | 23 => 0x3F631324#32
  | 24 => 0xBF800000#32
  | 25 => 0x3F631324#32
  | 26 => 0xBF12D5E8#32
  | 27 => 0x3E05A8A8#32
  | 28 => 0x3EAF1D44#32
  | 29 => 0xBF3CBE35#32
  | 30 => 0x3F7746EA#32
  | 31 => 0xBF79EE89#32
  | 32 => 0x3F441B7D#32
  | 33 => 0xBEC3EF15#32
  | 34 => 0xBDB27EB6#32
  | 35 => 0x3F098C78#32
  | 36 => 0xBF5DB3D7#32
  | 37 => 0x3F7FC1A0#32
  | 38 => 0xBF6803CA#32
  | 39 => 0x3F1BD7CA#32
  | 40 => 0xBE31D0D4#32
  | 41 => 0xBE99F61C#32
  | 42 => 0x3F3504F3#32
  | 43 => 0xBF7426CB#32
  | 44 => 0x3F7C1C5C#32
  | 45 => 0xBF4B1934#32
  | 46 => 0x3ED8616C#32
  | 47 => 0x3D32AA3E#32
  | 48 => 0xBF000000#32
  | 49 => 0x3F57E880#32
  | 50 => 0xBF7F069E#32
  | 51 => 0x3F6C835E#32
  | 52 => 0xBF248DBB#32
  | 53 => 0x3E5DA259#32
  | 54 => 0x3E8483EE#32
  | 55 => 0xBF2CF37B#32
  | 56 => 0x3F708FB2#32
  | 57 => 0xBF7DCF55#32
  | 58 => 0x3F51B3F3#32
  | 59 => 0xBEEC6A50#32
  | 60 => 0xA553C9CA#32
  | 61 => 0x3EEC6A50#32
  | 62 => 0xBF51B3F3#32
  | 63 => 0x3F7DCF55#32
  | 64 => 0xBF708FB2#32
  | 65 => 0x3F2CF37B#32
  | 66 => 0xBE8483EE#32
  | 67 => 0xBE5DA259#32
  | 68 => 0x3F248DBB#32
  | 69 => 0xBF6C835E#32
  | 70 => 0x3F7F069E#32
  | 71 => 0xBF57E880#32
  | 72 => 0x3F000000#32
  | 73 => 0xBD32AA3E#32
  | 74 => 0xBED8616C#32
  | 75 => 0x3F4B1934#32
  | 76 => 0xBF7C1C5C#32
  | 77 => 0x3F7426CB#32
  | 78 => 0xBF3504F3#32
  | 79 => 0x3E99F61C#32
  | 80 => 0x3E31D0D4#32
  | 81 => 0xBF1BD7CA#32
  | 82 => 0x3F6803CA#32
  | 83 => 0xBF7FC1A0#32
  | 84 => 0x3F5DB3D7#32
  | 85 => 0xBF098C78#32
  | 86 => 0x3DB27EB6#32
  | 87 => 0x3EC3EF15#32
  | 88 => 0xBF441B7D#32
  | 89 => 0x3F79EE89#32
  | 90 => 0xBF7746EA#32
  | 91 => 0x3F3CBE35#32
  | 92 => 0xBEAF1D44#32
  | 93 => 0xBE05A8A8#32
  | 94 => 0x3F12D5E8#32
  | 95 => 0xBF631324#32
  | 96 => 0x3F800000#32
  | 97 => 0xBF659974#32
  | 98 => 0x3F1BD7CA#32
  | 99 => 0xBE47C5C2#32
  | 100 => 0xBE8483EE#32
  | 101 => 0x3F28CAE3#32
  | 102 => 0xBF6C835E#32
  | 103 => 0x3F7F73AF#32
  | 104 => 0xBF5DB3D7#32
  | 105 => 0x3F0E39DA#32
  | 106 => 0xBE05A8A8#32
  | 107 => 0xBEA493B7#32
  | 108 => 0x3F3504F3#32
  | 109 => 0xBF726A03#32
  | 110 => 0x3F7DCF55#32
  | 111 => 0xBF54DB31#32
  | 112 => 0x3F000000#32
  | 113 => 0xBD85F213#32
  | 114 => 0xBEC3EF15#32
  | 115 => 0x3F407893#32
  | 116 => 0xBF7746EA#32
  | 117 => 0x3F7B14BE#32
  | 118 => 0xBF4B1934#32
  | 119 => 0x3EE273AA#32
  | 120 => 0x248D3132#32
  | 121 => 0xBEE273AA#32
  | 122 => 0x3F4B1934#32
  | 123 => 0xBF7B14BE#32
  | 124 => 0x3F7746EA#32
  | 125 => 0xBF407893#32
  | 126 => 0x3EC3EF15#32
  | 127 => 0x3D85F213#32
  | _ => 0#32

noncomputable abbrev lit0t0_277 (i : Nat) : BitVec 32 := match i % 128 with
  | 0 => 0xBF000000#32
  | 1 => 0x3F54DB31#32
  | 2 => 0xBF7DCF55#32
  | 3 => 0x3F726A03#32
  | 4 => 0xBF3504F3#32
  | 5 => 0x3EA493B7#32
  | 6 => 0x3E05A8A8#32
  | 7 => 0xBF0E39DA#32
  | 8 => 0x3F5DB3D7#32
  | 9 => 0xBF7F73AF#32
  | 10 => 0x3F6C835E#32
  | 11 => 0xBF28CAE3#32
  | 12 => 0x3E8483EE#32
  | 13 => 0x3E47C5C2#32
  | 14 => 0xBF1BD7CA#32
  | 15 => 0x3F659974#32
  | 16 => 0xBF800000#32
  | 17 => 0x3F659974#32
  | 18 => 0xBF1BD7CA#32
  | 19 => 0x3E47C5C2#32
  | 20 => 0x3E8483EE#32
  | 21 => 0xBF28CAE3#32
  | 22 => 0x3F6C835E#32
  | 23 => 0xBF7F73AF#32
  | 24 => 0x3F5DB3D7#32
  | 25 => 0xBF0E39DA#32
  | 26 => 0x3E05A8A8#32
  | 27 => 0x3EA493B7#32
  | 28 => 0xBF3504F3#32
  | 29 => 0x3F726A03#32
  | 30 => 0xBF7DCF55#32
  | 31 => 0x3F54DB31#32
  | 32 => 0xBF000000#32
  | 33 => 0x3D85F213#32
  | 34 => 0x3EC3EF15#32
  | 35 => 0xBF407893#32
  | 36 => 0x3F7746EA#32
  | 37 => 0xBF7B14BE#32
  | 38 => 0x3F4B1934#32
  | 39 => 0xBEE273AA#32
  | 40 => 0xA553C9CA#32
  | 41 => 0x3EE273AA#32
  | 42 => 0xBF4B1934#32
  | 43 => 0x3F7B14BE#32
  | 44 => 0xBF7746EA#32
  | 45 => 0x3F407893#32
  | 46 => 0xBEC3EF15#32
  | 47 => 0xBD85F213#32
  | 48 => 0x3F000000#32
  | 49 => 0xBF54DB31#32
  | 50 => 0x3F7DCF55#32
  | 51 => 0xBF726A03#32
  | 52 => 0x3F3504F3#32
  | 53 => 0xBEA493B7#32
  | 54 => 0xBE05A8A8#32
  | 55 => 0x3F0E39DA#32
  | 56 => 0xBF5DB3D7#32
  | 57 => 0x3F7F73AF#32
  | 58 => 0xBF6C835E#32
  | 59 => 0x3F28CAE3#32
  | 60 => 0xBE8483EE#32
  | 61 => 0xBE47C5C2#32
  | 62 => 0x3F1BD7CA#32
  | 63 => 0xBF659974#32
  | 64 => 0x3F800000#32
  | 65 => 0xBF659974#32
  | 66 => 0x3F1BD7CA#32
  | 67 => 0xBE47C5C2#32
  | 68 => 0xBE8483EE#32
  | 69 => 0x3F28CAE3#32
  | 70 => 0xBF6C835E#32
  | 71 => 0x3F7F73AF#32
  | 72 => 0xBF5DB3D7#32
  | 73 => 0x3F0E39DA#32
  | 74 => 0xBE05A8A8#32
  | 75 => 0xBEA493B7#32
  | 76 => 0x3F3504F3#32
  | 77 => 0xBF726A03#32
  | 78 => 0x3F7DCF55#32
  | 79 => 0xBF54DB31#32
  | 80 => 0x3F000000#32
  | 81 => 0xBD85F213#32
  | 82 => 0xBEC3EF15#32
  | 83 => 0x3F407893#32
  | 84 => 0xBF7746EA#32
  | 85 => 0x3F7B14BE#32
  | 86 => 0xBF4B1934#32
  | 87 => 0x3EE273AA#32
  | 88 => 0x248D3132#32
  | 89 => 0xBEE273AA#32
  | 90 => 0x3F4B1934#32
  | 91 => 0xBF7B14BE#32
  | 92 => 0x3F7746EA#32
  | 93 => 0xBF407893#32
  | 94 => 0x3EC3EF15#32
  | 95 => 0x3D85F213#32
  | 96 => 0xBF000000#32
  | 97 => 0x3F54DB31#32
  | 98 => 0xBF7DCF55#32
  | 99 => 0x3F726A03#32
  | 100 => 0xBF3504F3#32
  | 101 => 0x3EA493B7#32
  | 102 => 0x3E05A8A8#32
  | 103 => 0xBF0E39DA#32
  | 104 => 0x3F5DB3D7#32
  | 105 => 0xBF7F73AF#32
  | 106 => 0x3F6C835E#32
  | 107 => 0xBF28CAE3#32
  | 108 => 0x3E8483EE#32
  | 109 => 0x3E47C5C2#32
  | 110 => 0xBF1BD7CA#32
  | 111 => 0x3F659974#32
  | 112 => 0xBF800000#32
  | 113 => 0x3F659974#32
  | 114 => 0xBF1BD7CA#32
  | 115 => 0x3E47C5C2#32
  | 116 => 0x3E8483EE#32
  | 117 => 0xBF28CAE3#32
  | 118 => 0x3F6C835E#32
  | 119 => 0xBF7F73AF#32
  | 120 => 0x3F5DB3D7#32
  | 121 => 0xBF0E39DA#32
  | 122 => 0x3E05A8A8#32
  | 123 => 0x3EA493B7#32
  | 124 => 0xBF3504F3#32
  | 125 => 0x3F726A03#32
  | 126 => 0xBF7DCF55#32
  | 127 => 0x3F54DB31#32
  | _ => 0#32

noncomputable abbrev lit0t0_278 (i : Nat) : BitVec 32 := match i % 128 with
  | 0 => 0xBF000000#32
  | 1 => 0x3D85F213#32
  | 2 => 0x3EC3EF15#32
  | 3 => 0xBF407893#32
  | 4 => 0x3F7746EA#32
  | 5 => 0xBF7B14BE#32
  | 6 => 0x3F4B1934#32
  | 7 => 0xBEE273AA#32
  | 8 => 0xA553C9CA#32
  | 9 => 0x3EE273AA#32
  | 10 => 0xBF4B1934#32
  | 11 => 0x3F7B14BE#32
  | 12 => 0xBF7746EA#32
  | 13 => 0x3F407893#32
  | 14 => 0xBEC3EF15#32
  | 15 => 0xBD85F213#32
  | 16 => 0x3F000000#32
  | 17 => 0xBF54DB31#32
  | 18 => 0x3F7DCF55#32
  | 19 => 0xBF726A03#32
  | 20 => 0x3F3504F3#32
  | 21 => 0xBEA493B7#32
  | 22 => 0xBE05A8A8#32
  | 23 => 0x3F0E39DA#32
  | 24 => 0xBF5DB3D7#32
  | 25 => 0x3F7F73AF#32
  | 26 => 0xBF6C835E#32
  | 27 => 0x3F28CAE3#32
  | 28 => 0xBE8483EE#32
  | 29 => 0xBE47C5C2#32
  | 30 => 0x3F1BD7CA#32
  | 31 => 0xBF659974#32
  | 32 => 0x3F800000#32
  | 33 => 0xBF659974#32
  | 34 => 0x3F1BD7CA#32
  | 35 => 0xBE47C5C2#32
  | 36 => 0xBE8483EE#32
  | 37 => 0x3F28CAE3#32
  | 38 => 0xBF6C835E#32
  | 39 => 0x3F7F73AF#32
  | 40 => 0xBF5DB3D7#32
  | 41 => 0x3F0E39DA#32
  | 42 => 0xBE05A8A8#32
  | 43 => 0xBEA493B7#32
  | 44 => 0x3F3504F3#32
  | 45 => 0xBF726A03#32
  | 46 => 0x3F7DCF55#32
  | 47 => 0xBF54DB31#32
  | 48 => 0x3F000000#32
  | 49 => 0xBD85F213#32
  | 50 => 0xBEC3EF15#32
  | 51 => 0x3F407893#32
  | 52 => 0xBF7746EA#32
  | 53 => 0x3F7B14BE#32
  | 54 => 0xBF4B1934#32
  | 55 => 0x3EE273AA#32
  | 56 => 0x248D3132#32
  | 57 => 0xBEE273AA#32
  | 58 => 0x3F4B1934#32
  | 59 => 0xBF7B14BE#32
  | 60 => 0x3F7746EA#32
  | 61 => 0xBF407893#32
  | 62 => 0x3EC3EF15#32
  | 63 => 0x3D85F213#32
  | 64 => 0xBF000000#32
  | 65 => 0x3F54DB31#32
  | 66 => 0xBF7DCF55#32
  | 67 => 0x3F726A03#32
  | 68 => 0xBF3504F3#32
  | 69 => 0x3EA493B7#32
  | 70 => 0x3E05A8A8#32
  | 71 => 0xBF0E39DA#32
  | 72 => 0x3F5DB3D7#32
  | 73 => 0xBF7F73AF#32
  | 74 => 0x3F6C835E#32
  | 75 => 0xBF28CAE3#32
  | 76 => 0x3E8483EE#32
  | 77 => 0x3E47C5C2#32
  | 78 => 0xBF1BD7CA#32
  | 79 => 0x3F659974#32
  | 80 => 0xBF800000#32
  | 81 => 0x3F659974#32
  | 82 => 0xBF1BD7CA#32
  | 83 => 0x3E47C5C2#32
  | 84 => 0x3E8483EE#32
  | 85 => 0xBF28CAE3#32
  | 86 => 0x3F6C835E#32
  | 87 => 0xBF7F73AF#32
  | 88 => 0x3F5DB3D7#32
  | 89 => 0xBF0E39DA#32
  | 90 => 0x3E05A8A8#32
  | 91 => 0x3EA493B7#32
  | 92 => 0xBF3504F3#32
  | 93 => 0x3F726A03#32
  | 94 => 0xBF7DCF55#32
  | 95 => 0x3F54DB31#32
  | 96 => 0xBF000000#32
  | 97 => 0x3D85F213#32
  | 98 => 0x3EC3EF15#32
  | 99 => 0xBF407893#32
  | 100 => 0x3F7746EA#32
  | 101 => 0xBF7B14BE#32
  | 102 => 0x3F4B1934#32
  | 103 => 0xBEE273AA#32
  | 104 => 0xA553C9CA#32
  | 105 => 0x3EE273AA#32
  | 106 => 0xBF4B1934#32
  | 107 => 0x3F7B14BE#32
  | 108 => 0xBF7746EA#32
  | 109 => 0x3F407893#32
  | 110 => 0xBEC3EF15#32
  | 111 => 0xBD85F213#32
  | 112 => 0x3F000000#32
  | 113 => 0xBF54DB31#32
  | 114 => 0x3F7DCF55#32
  | 115 => 0xBF726A03#32
  | 116 => 0x3F3504F3#32
  | 117 => 0xBEA493B7#32
  | 118 => 0xBE05A8A8#32
  | 119 => 0x3F0E39DA#32
  | 120 => 0xBF5DB3D7#32
  | 121 => 0x3F7F73AF#32
  | 122 => 0xBF6C835E#32
  | 123 => 0x3F28CAE3#32
  | 124 => 0xBE8483EE#32
  | 125 => 0xBE47C5C2#32
  | 126 => 0x3F1BD7CA#32
  | 127 => 0xBF659974#32
  | _ => 0#32

noncomputable abbrev lit0t0_279 (i : Nat) : BitVec 32 := match i % 128 with
  | 0 => 0x3F800000#32
  | 1 => 0xBF6803CA#32
  | 2 => 0x3F248DBB#32
  | 3 => 0xBE8483EE#32
  | 4 => 0xBE31D0D4#32
  | 5 => 0x3F12D5E8#32
  | 6 => 0xBF5DB3D7#32
  | 7 => 0x3F7F069E#32
  | 8 => 0xBF708FB2#32
  | 9 => 0x3F3504F3#32
  | 10 => 0xBEAF1D44#32
  | 11 => 0xBDB27EB6#32
  | 12 => 0x3F000000#32
  | 13 => 0xBF51B3F3#32
  | 14 => 0x3F7C1C5C#32
  | 15 => 0xBF7746EA#32
  | 16 => 0x3F441B7D#32
  | 17 => 0xBED8616C#32
  | 18 => 0xA553C9CA#32
  | 19 => 0x3ED8616C#32
  | 20 => 0xBF441B7D#32
  | 21 => 0x3F7746EA#32
  | 22 => 0xBF7C1C5C#32
  | 23 => 0x3F51B3F3#32
  | 24 => 0xBF000000#32
  | 25 => 0x3DB27EB6#32
  | 26 => 0x3EAF1D44#32
  | 27 => 0xBF3504F3#32
  | 28 => 0x3F708FB2#32
  | 29 => 0xBF7F069E#32
  | 30 => 0x3F5DB3D7#32
  | 31 => 0xBF12D5E8#32
  | 32 => 0x3E31D0D4#32
  | 33 => 0x3E8483EE#32
  | 34 => 0xBF248DBB#32
  | 35 => 0x3F6803CA#32
  | 36 => 0xBF800000#32
  | 37 => 0x3F6803CA#32
  | 38 => 0xBF248DBB#32
  | 39 => 0x3E8483EE#32
  | 40 => 0x3E31D0D4#32
  | 41 => 0xBF12D5E8#32
  | 42 => 0x3F5DB3D7#32
  | 43 => 0xBF7F069E#32
  | 44 => 0x3F708FB2#32
  | 45 => 0xBF3504F3#32
  | 46 => 0x3EAF1D44#32
  | 47 => 0x3DB27EB6#32
  | 48 => 0xBF000000#32
  | 49 => 0x3F51B3F3#32
  | 50 => 0xBF7C1C5C#32
  | 51 => 0x3F7746EA#32
  | 52 => 0xBF441B7D#32
  | 53 => 0x3ED8616C#32
  | 54 => 0x248D3132#32
  | 55 => 0xBED8616C#32
  | 56 => 0x3F441B7D#32
  | 57 => 0xBF7746EA#32
  | 58 => 0x3F7C1C5C#32
  | 59 => 0xBF51B3F3#32
  | 60 => 0x3F000000#32
  | 61 => 0xBDB27EB6#32
  | 62 => 0xBEAF1D44#32
  | 63 => 0x3F3504F3#32
  | 64 => 0xBF708FB2#32
  | 65 => 0x3F7F069E#32
  | 66 => 0xBF5DB3D7#32
  | 67 => 0x3F12D5E8#32
  | 68 => 0xBE31D0D4#32
  | 69 => 0xBE8483EE#32
  | 70 => 0x3F248DBB#32
  | 71 => 0xBF6803CA#32
  | 72 => 0x3F800000#32
  | 73 => 0xBF6803CA#32
  | 74 => 0x3F248DBB#32
  | 75 => 0xBE8483EE#32
  | 76 => 0xBE31D0D4#32
  | 77 => 0x3F12D5E8#32
  | 78 => 0xBF5DB3D7#32
  | 79 => 0x3F7F069E#32
  | 80 => 0xBF708FB2#32
  | 81 => 0x3F3504F3#32
  | 82 => 0xBEAF1D44#32
  | 83 => 0xBDB27EB6#32
  | 84 => 0x3F000000#32
  | 85 => 0xBF51B3F3#32
  | 86 => 0x3F7C1C5C#32
  | 87 => 0xBF7746EA#32
  | 88 => 0x3F441B7D#32
  | 89 => 0xBED8616C#32
  | 90 => 0xA553C9CA#32
  | 91 => 0x3ED8616C#32
  | 92 => 0xBF441B7D#32
  | 93 => 0x3F7746EA#32
  | 94 => 0xBF7C1C5C#32
  | 95 => 0x3F51B3F3#32
  | 96 => 0xBF000000#32
  | 97 => 0x3DB27EB6#32
  | 98 => 0x3EAF1D44#32
  | 99 => 0xBF3504F3#32
  | 100 => 0x3F708FB2#32
  | 101 => 0xBF7F069E#32
  | 102 => 0x3F5DB3D7#32
  | 103 => 0xBF12D5E8#32
  | 104 => 0x3E31D0D4#32
  | 105 => 0x3E8483EE#32
  | 106 => 0xBF248DBB#32
  | 107 => 0x3F6803CA#32
  | 108 => 0xBF800000#32
  | 109 => 0x3F6803CA#32
  | 110 => 0xBF248DBB#32
  | 111 => 0x3E8483EE#32
  | 112 => 0x3E31D0D4#32
  | 113 => 0xBF12D5E8#32
  | 114 => 0x3F5DB3D7#32
  | 115 => 0xBF7F069E#32
  | 116 => 0x3F708FB2#32
  | 117 => 0xBF3504F3#32
  | 118 => 0x3EAF1D44#32
  | 119 => 0x3DB27EB6#32
  | 120 => 0xBF000000#32
  | 121 => 0x3F51B3F3#32
  | 122 => 0xBF7C1C5C#32
  | 123 => 0x3F7746EA#32
  | 124 => 0xBF441B7D#32
  | 125 => 0x3ED8616C#32
  | 126 => 0x248D3132#32
  | 127 => 0xBED8616C#32
  | _ => 0#32

noncomputable abbrev lit0t0_280 (i : Nat) : BitVec 32 := match i % 128 with
  | 0 => 0x3F441B7D#32
  | 1 => 0xBF7746EA#32
  | 2 => 0x3F7C1C5C#32
  | 3 => 0xBF51B3F3#32
  | 4 => 0x3F000000#32
  | 5 => 0xBDB27EB6#32
  | 6 => 0xBEAF1D44#32
  | 7 => 0x3F3504F3#32
  | 8 => 0xBF708FB2#32
  | 9 => 0x3F7F069E#32
  | 10 => 0xBF5DB3D7#32
  | 11 => 0x3F12D5E8#32
  | 12 => 0xBE31D0D4#32
  | 13 => 0xBE8483EE#32
  | 14 => 0x3F248DBB#32
  | 15 => 0xBF6803CA#32
  | 16 => 0x3F800000#32
  | 17 => 0xBF6803CA#32
  | 18 => 0x3F248DBB#32
  | 19 => 0xBE8483EE#32
  | 20 => 0xBE31D0D4#32
  | 21 => 0x3F12D5E8#32
  | 22 => 0xBF5DB3D7#32
  | 23 => 0x3F7F069E#32
  | 24 => 0xBF708FB2#32
  | 25 => 0x3F3504F3#32
  | 26 => 0xBEAF1D44#32
  | 27 => 0xBDB27EB6#32
  | 28 => 0x3F000000#32
  | 29 => 0xBF51B3F3#32
  | 30 => 0x3F7C1C5C#32
  | 31 => 0xBF7746EA#32
  | 32 => 0x3F441B7D#32
  | 33 => 0xBED8616C#32
  | 34 => 0xA553C9CA#32
  | 35 => 0x3ED8616C#32
  | 36 => 0xBF441B7D#32
  | 37 => 0x3F7746EA#32
  | 38 => 0xBF7C1C5C#32
  | 39 => 0x3F51B3F3#32
  | 40 => 0xBF000000#32
  | 41 => 0x3DB27EB6#32
  | 42 => 0x3EAF1D44#32
  | 43 => 0xBF3504F3#32
  | 44 => 0x3F708FB2#32
  | 45 => 0xBF7F069E#32
  | 46 => 0x3F5DB3D7#32
  | 47 => 0xBF12D5E8#32
  | 48 => 0x3E31D0D4#32
  | 49 => 0x3E8483EE#32
  | 50 => 0xBF248DBB#32
  | 51 => 0x3F6803CA#32
  | 52 => 0xBF800000#32
  | 53 => 0x3F6803CA#32
  | 54 => 0xBF248DBB#32
  | 55 => 0x3E8483EE#32
  | 56 => 0x3E31D0D4#32
  | 57 => 0xBF12D5E8#32
  | 58 => 0x3F5DB3D7#32
  | 59 => 0xBF7F069E#32
  | 60 => 0x3F708FB2#32
  | 61 => 0xBF3504F3#32
  | 62 => 0x3EAF1D44#32
  | 63 => 0x3DB27EB6#32
  | 64 => 0xBF000000#32
  | 65 => 0x3F51B3F3#32
  | 66 => 0xBF7C1C5C#32
  | 67 => 0x3F7746EA#32
  | 68 => 0xBF441B7D#32
  | 69 => 0x3ED8616C#32
  | 70 => 0x248D3132#32
  | 71 => 0xBED8616C#32
  | 72 => 0x3F441B7D#32
  | 73 => 0xBF7746EA#32
  | 74 => 0x3F7C1C5C#32
  | 75 => 0xBF51B3F3#32
  | 76 => 0x3F000000#32
  | 77 => 0xBDB27EB6#32
  | 78 => 0xBEAF1D44#32
  | 79 => 0x3F3504F3#32
  | 80 => 0xBF708FB2#32
  | 81 => 0x3F7F069E#32
  | 82 => 0xBF5DB3D7#32
  | 83 => 0x3F12D5E8#32
  | 84 => 0xBE31D0D4#32
  | 85 => 0xBE8483EE#32
  | 86 => 0x3F248DBB#32
  | 87 => 0xBF6803CA#32
  | 88 => 0x3F800000#32
  | 89 => 0xBF6803CA#32
  | 90 => 0x3F248DBB#32
  | 91 => 0xBE8483EE#32
  | 92 => 0xBE31D0D4#32
  | 93 => 0x3F12D5E8#32
  | 94 => 0xBF5DB3D7#32
  | 95 => 0x3F7F069E#32
  | 96 => 0xBF708FB2#32
  | 97 => 0x3F3504F3#32
  | 98 => 0xBEAF1D44#32
  | 99 => 0xBDB27EB6#32
  | 100 => 0x3F000000#32
  | 101 => 0xBF51B3F3#32
  | 102 => 0x3F7C1C5C#32
  | 103 => 0xBF7746EA#32
  | 104 => 0x3F441B7D#32
  | 105 => 0xBED8616C#32
  | 106 => 0xA553C9CA#32
  | 107 => 0x3ED8616C#32
  | 108 => 0xBF441B7D#32
  | 109 => 0x3F7746EA#32
  | 110 => 0xBF7C1C5C#32
  | 111 => 0x3F51B3F3#32
  | 112 => 0xBF000000#32
  | 113 => 0x3DB27EB6#32
  | 114 => 0x3EAF1D44#32
  | 115 => 0xBF3504F3#32
  | 116 => 0x3F708FB2#32
  | 117 => 0xBF7F069E#32
  | 118 => 0x3F5DB3D7#32
  | 119 => 0xBF12D5E8#32
  | 120 => 0x3E31D0D4#32
  | 121 => 0x3E8483EE#32
  | 122 => 0xBF248DBB#32
  | 123 => 0x3F6803CA#32
  | 124 => 0xBF800000#32
  | 125 => 0x3F6803CA#32
  | 126 => 0xBF248DBB#32
  | 127 => 0x3E8483EE#32
  | _ => 0#32

noncomputable abbrev lit0t0_281 (i : Nat) : BitVec 32 := match i % 128 with
  | 0 => 0x3E31D0D4#32
  | 1 => 0xBF12D5E8#32
  | 2 => 0x3F5DB3D7#32
  | 3 => 0xBF7F069E#32
  | 4 => 0x3F708FB2#32
  | 5 => 0xBF3504F3#32
  | 6 => 0x3EAF1D44#32
  | 7 => 0x3DB27EB6#32
  | 8 => 0xBF000000#32
  | 9 => 0x3F51B3F3#32
  | 10 => 0xBF7C1C5C#32
  | 11 => 0x3F7746EA#32
  | 12 => 0xBF441B7D#32
  | 13 => 0x3ED8616C#32
  | 14 => 0x248D3132#32
  | 15 => 0xBED8616C#32
  | 16 => 0x3F441B7D#32
  | 17 => 0xBF7746EA#32
  | 18 => 0x3F7C1C5C#32
  | 19 => 0xBF51B3F3#32
  | 20 => 0x3F000000#32
  | 21 => 0xBDB27EB6#32
  | 22 => 0xBEAF1D44#32
  | 23 => 0x3F3504F3#32
  | 24 => 0xBF708FB2#32
  | 25 => 0x3F7F069E#32
  | 26 => 0xBF5DB3D7#32
  | 27 => 0x3F12D5E8#32
  | 28 => 0xBE31D0D4#32
  | 29 => 0xBE8483EE#32
  | 30 => 0x3F248DBB#32
  | 31 => 0xBF6803CA#32
  | 32 => 0x3F800000#32
  | 33 => 0xBF6A51DA#32
  | 34 => 0x3F2CF37B#32
  | 35 => 0xBEA493B7#32
  | 36 => 0xBDB27EB6#32
  | 37 => 0x3EF64429#32
  | 38 => 0xBF4B1934#32
  | 39 => 0x3F78A9E0#32
  | 40 => 0xBF7C1C5C#32
  | 41 => 0x3F54DB31#32
  | 42 => 0xBF098C78#32
  | 43 => 0x3E1BC63C#32
  | 44 => 0x3E8483EE#32
  | 45 => 0xBF203C85#32
  | 46 => 0x3F631324#32
  | 47 => 0xBF7F73AF#32
  | 48 => 0x3F708FB2#32
  | 49 => 0xBF38ECD8#32
  | 50 => 0x3EC3EF15#32
  | 51 => 0x3CB2B521#32
  | 52 => 0xBED8616C#32
  | 53 => 0x3F407893#32
  | 54 => 0xBF7426CB#32
  | 55 => 0x3F7E7A7A#32
  | 56 => 0xBF5DB3D7#32
  | 57 => 0x3F176012#32
  | 58 => 0xBE5DA259#32
  | 59 => 0xBE47C5C2#32
  | 60 => 0x3F12D5E8#32
  | 61 => 0xBF5ADB81#32
  | 62 => 0x3F7DCF55#32
  | 63 => 0xBF75C5D4#32
  | 64 => 0x3F441B7D#32
  | 65 => 0xBEE273AA#32
  | 66 => 0x3D32AA3E#32
  | 67 => 0x3EB9917B#32
  | 68 => 0xBF3504F3#32
  | 69 => 0x3F6E9811#32
  | 70 => 0xBF7FC1A0#32
  | 71 => 0x3F659974#32
  | 72 => 0xBF248DBB#32
  | 73 => 0x3E8F45C0#32
  | 74 => 0x3E05A8A8#32
  | 75 => 0xBF04CE53#32
  | 76 => 0x3F51B3F3#32
  | 77 => 0xBF7B14BE#32
  | 78 => 0x3F79EE89#32
  | 79 => 0xBF4E7327#32
  | 80 => 0x3F000000#32
  | 81 => 0xBDDEF599#32
  | 82 => 0xBE99F61C#32
  | 83 => 0x3F28CAE3#32
  | 84 => 0xBF6803CA#32
  | 85 => 0x3F7FF067#32
  | 86 => 0xBF6C835E#32
  | 87 => 0x3F310700#32
  | 88 => 0xBEAF1D44#32
  | 89 => 0xBD85F213#32
  | 90 => 0x3EEC6A50#32
  | 91 => 0xBF47A682#32
  | 92 => 0x3F7746EA#32
  | 93 => 0xBF7D0543#32
  | 94 => 0x3F57E880#32
  | 95 => 0xBF0E39DA#32
  | 96 => 0x3E31D0D4#32
  | 97 => 0x3E7363EE#32
  | 98 => 0xBF1BD7CA#32
  | 99 => 0x3F60712A#32
  | 100 => 0xBF7F069E#32
  | 101 => 0x3F726A03#32
  | 102 => 0xBF3CBE35#32
  | 103 => 0x3ECE34D0#32
  | 104 => 0x248D3132#32
  | 105 => 0xBECE34D0#32
  | 106 => 0x3F3CBE35#32
  | 107 => 0xBF726A03#32
  | 108 => 0x3F7F069E#32
  | 109 => 0xBF60712A#32
  | 110 => 0x3F1BD7CA#32
  | 111 => 0xBE7363EE#32
  | 112 => 0xBE31D0D4#32
  | 113 => 0x3F0E39DA#32
  | 114 => 0xBF57E880#32
  | 115 => 0x3F7D0543#32
  | 116 => 0xBF7746EA#32
  | 117 => 0x3F47A682#32
  | 118 => 0xBEEC6A50#32
  | 119 => 0x3D85F213#32
  | 120 => 0x3EAF1D44#32
  | 121 => 0xBF310700#32
  | 122 => 0x3F6C835E#32
  | 123 => 0xBF7FF067#32
  | 124 => 0x3F6803CA#32
  | 125 => 0xBF28CAE3#32
  | 126 => 0x3E99F61C#32
  | 127 => 0x3DDEF599#32
  | _ => 0#32

noncomputable abbrev lit0t0_282 (i : Nat) : BitVec 32 := match i % 128 with
  | 0 => 0xBF000000#32
  | 1 => 0x3F4E7327#32
  | 2 => 0xBF79EE89#32
  | 3 => 0x3F7B14BE#32
  | 4 => 0xBF51B3F3#32
  | 5 => 0x3F04CE53#32
  | 6 => 0xBE05A8A8#32
  | 7 => 0xBE8F45C0#32
  | 8 => 0x3F248DBB#32
  | 9 => 0xBF659974#32
  | 10 => 0x3F7FC1A0#32
  | 11 => 0xBF6E9811#32
  | 12 => 0x3F3504F3#32
  | 13 => 0xBEB9917B#32
  | 14 => 0xBD32AA3E#32
  | 15 => 0x3EE273AA#32
  | 16 => 0xBF441B7D#32
  | 17 => 0x3F75C5D4#32
  | 18 => 0xBF7DCF55#32
  | 19 => 0x3F5ADB81#32
  | 20 => 0xBF12D5E8#32
  | 21 => 0x3E47C5C2#32
  | 22 => 0x3E5DA259#32
  | 23 => 0xBF176012#32
  | 24 => 0x3F5DB3D7#32
  | 25 => 0xBF7E7A7A#32
  | 26 => 0x3F7426CB#32
  | 27 => 0xBF407893#32
  | 28 => 0x3ED8616C#32
  | 29 => 0xBCB2B521#32
  | 30 => 0xBEC3EF15#32
  | 31 => 0x3F38ECD8#32
  | 32 => 0xBF708FB2#32
  | 33 => 0x3F7F73AF#32
  | 34 => 0xBF631324#32
  | 35 => 0x3F203C85#32
  | 36 => 0xBE8483EE#32
  | 37 => 0xBE1BC63C#32
  | 38 => 0x3F098C78#32
  | 39 => 0xBF54DB31#32
  | 40 => 0x3F7C1C5C#32
  | 41 => 0xBF78A9E0#32
  | 42 => 0x3F4B1934#32
  | 43 => 0xBEF64429#32
  | 44 => 0x3DB27EB6#32
  | 45 => 0x3EA493B7#32
  | 46 => 0xBF2CF37B#32
  | 47 => 0x3F6A51DA#32
  | 48 => 0xBF800000#32
  | 49 => 0x3F6A51DA#32
  | 50 => 0xBF2CF37B#32
  | 51 => 0x3EA493B7#32
  | 52 => 0x3DB27EB6#32
  | 53 => 0xBEF64429#32
  | 54 => 0x3F4B1934#32
  | 55 => 0xBF78A9E0#32
  | 56 => 0x3F7C1C5C#32
  | 57 => 0xBF54DB31#32
  | 58 => 0x3F098C78#32
  | 59 => 0xBE1BC63C#32
  | 60 => 0xBE8483EE#32
  | 61 => 0x3F203C85#32
  | 62 => 0xBF631324#32
  | 63 => 0x3F7F73AF#32
  | 64 => 0xBF708FB2#32
  | 65 => 0x3F38ECD8#32
  | 66 => 0xBEC3EF15#32
  | 67 => 0xBCB2B521#32
  | 68 => 0x3ED8616C#32
  | 69 => 0xBF407893#32
  | 70 => 0x3F7426CB#32
  | 71 => 0xBF7E7A7A#32
  | 72 => 0x3F5DB3D7#32
  | 73 => 0xBF176012#32
  | 74 => 0x3E5DA259#32
  | 75 => 0x3E47C5C2#32
  | 76 => 0xBF12D5E8#32
  | 77 => 0x3F5ADB81#32
  | 78 => 0xBF7DCF55#32
  | 79 => 0x3F75C5D4#32
  | 80 => 0xBF441B7D#32
  | 81 => 0x3EE273AA#32
  | 82 => 0xBD32AA3E#32
  | 83 => 0xBEB9917B#32
  | 84 => 0x3F3504F3#32
  | 85 => 0xBF6E9811#32
  | 86 => 0x3F7FC1A0#32
  | 87 => 0xBF659974#32
  | 88 => 0x3F248DBB#32
  | 89 => 0xBE8F45C0#32
  | 90 => 0xBE05A8A8#32
  | 91 => 0x3F04CE53#32
  | 92 => 0xBF51B3F3#32
  | 93 => 0x3F7B14BE#32
  | 94 => 0xBF79EE89#32
  | 95 => 0x3F4E7327#32
  | 96 => 0xBF000000#32
  | 97 => 0x3DDEF599#32
  | 98 => 0x3E99F61C#32
  | 99 => 0xBF28CAE3#32
  | 100 => 0x3F6803CA#32
  | 101 => 0xBF7FF067#32
  | 102 => 0x3F6C835E#32
  | 103 => 0xBF310700#32
  | 104 => 0x3EAF1D44#32
  | 105 => 0x3D85F213#32
  | 106 => 0xBEEC6A50#32
  | 107 => 0x3F47A682#32
  | 108 => 0xBF7746EA#32
  | 109 => 0x3F7D0543#32
  | 110 => 0xBF57E880#32
  | 111 => 0x3F0E39DA#32
  | 112 => 0xBE31D0D4#32
  | 113 => 0xBE7363EE#32
  | 114 => 0x3F1BD7CA#32
  | 115 => 0xBF60712A#32
  | 116 => 0x3F7F069E#32
  | 117 => 0xBF726A03#32
  | 118 => 0x3F3CBE35#32
  | 119 => 0xBECE34D0#32
  | 120 => 0xA553C9CA#32
  | 121 => 0x3ECE34D0#32
  | 122 => 0xBF3CBE35#32
  | 123 => 0x3F726A03#32
  | 124 => 0xBF7F069E#32
  | 125 => 0x3F60712A#32
  | 126 => 0xBF1BD7CA#32
  | 127 => 0x3E7363EE#32
  | _ => 0#32

noncomputable abbrev lit0t0_283 (i : Nat) : BitVec 32 := match i % 128 with
  | 0 => 0x3E31D0D4#32
  | 1 => 0xBF0E39DA#32
  | 2 => 0x3F57E880#32
  | 3 => 0xBF7D0543#32
  | 4 => 0x3F7746EA#32
  | 5 => 0xBF47A682#32
  | 6 => 0x3EEC6A50#32
  | 7 => 0xBD85F213#32
  | 8 => 0xBEAF1D44#32
  | 9 => 0x3F310700#32
  | 10 => 0xBF6C835E#32
  | 11 => 0x3F7FF067#32
  | 12 => 0xBF6803CA#32
  | 13 => 0x3F28CAE3#32
  | 14 => 0xBE99F61C#32
  | 15 => 0xBDDEF599#32
  | 16 => 0x3F000000#32
  | 17 => 0xBF4E7327#32
  | 18 => 0x3F79EE89#32
  | 19 => 0xBF7B14BE#32
  | 20 => 0x3F51B3F3#32
  | 21 => 0xBF04CE53#32
  | 22 => 0x3E05A8A8#32
  | 23 => 0x3E8F45C0#32
  | 24 => 0xBF248DBB#32
  | 25 => 0x3F659974#32
  | 26 => 0xBF7FC1A0#32
  | 27 => 0x3F6E9811#32
  | 28 => 0xBF3504F3#32
  | 29 => 0x3EB9917B#32
  | 30 => 0x3D32AA3E#32
  | 31 => 0xBEE273AA#32
  | 32 => 0x3F441B7D#32
  | 33 => 0xBF75C5D4#32
  | 34 => 0x3F7DCF55#32
  | 35 => 0xBF5ADB81#32
  | 36 => 0x3F12D5E8#32
  | 37 => 0xBE47C5C2#32
  | 38 => 0xBE5DA259#32
  | 39 => 0x3F176012#32
  | 40 => 0xBF5DB3D7#32
  | 41 => 0x3F7E7A7A#32
  | 42 => 0xBF7426CB#32
  | 43 => 0x3F407893#32
  | 44 => 0xBED8616C#32
  | 45 => 0x3CB2B521#32
  | 46 => 0x3EC3EF15#32
  | 47 => 0xBF38ECD8#32
  | 48 => 0x3F708FB2#32
  | 49 => 0xBF7F73AF#32
  | 50 => 0x3F631324#32
  | 51 => 0xBF203C85#32
  | 52 => 0x3E8483EE#32
  | 53 => 0x3E1BC63C#32
  | 54 => 0xBF098C78#32
  | 55 => 0x3F54DB31#32
  | 56 => 0xBF7C1C5C#32
  | 57 => 0x3F78A9E0#32
  | 58 => 0xBF4B1934#32
  | 59 => 0x3EF64429#32
  | 60 => 0xBDB27EB6#32
  | 61 => 0xBEA493B7#32
  | 62 => 0x3F2CF37B#32
  | 63 => 0xBF6A51DA#32
  | 64 => 0x3F800000#32
  | 65 => 0xBF6C835E#32
  | 66 => 0x3F3504F3#32
  | 67 => 0xBEC3EF15#32
  | 68 => 0xA553C9CA#32
  | 69 => 0x3EC3EF15#32
  | 70 => 0xBF3504F3#32
  | 71 => 0x3F6C835E#32
  | 72 => 0xBF800000#32
  | 73 => 0x3F6C835E#32
  | 74 => 0xBF3504F3#32
  | 75 => 0x3EC3EF15#32
  | 76 => 0x248D3132#32
  | 77 => 0xBEC3EF15#32
  | 78 => 0x3F3504F3#32
  | 79 => 0xBF6C835E#32
  | 80 => 0x3F800000#32
  | 81 => 0xBF6C835E#32
  | 82 => 0x3F3504F3#32
  | 83 => 0xBEC3EF15#32
  | 84 => 0xA553C9CA#32
  | 85 => 0x3EC3EF15#32
  | 86 => 0xBF3504F3#32
  | 87 => 0x3F6C835E#32
  | 88 => 0xBF800000#32
  | 89 => 0x3F6C835E#32
  | 90 => 0xBF3504F3#32
  | 91 => 0x3EC3EF15#32
  | 92 => 0x248D3132#32
  | 93 => 0xBEC3EF15#32
  | 94 => 0x3F3504F3#32
  | 95 => 0xBF6C835E#32
  | 96 => 0x3F800000#32
  | 97 => 0xBF6C835E#32
  | 98 => 0x3F3504F3#32
  | 99 => 0xBEC3EF15#32
  | 100 => 0xA553C9CA#32
  | 101 => 0x3EC3EF15#32
  | 102 => 0xBF3504F3#32
  | 103 => 0x3F6C835E#32
  | 104 => 0xBF800000#32
  | 105 => 0x3F6C835E#32
  | 106 => 0xBF3504F3#32
  | 107 => 0x3EC3EF15#32
  | 108 => 0x248D3132#32
  | 109 => 0xBEC3EF15#32
  | 110 => 0x3F3504F3#32
  | 111 => 0xBF6C835E#32
  | 112 => 0x3F800000#32
  | 113 => 0xBF6C835E#32
  | 114 => 0x3F3504F3#32
  | 115 => 0xBEC3EF15#32
  | 116 => 0xA553C9CA#32
  | 117 => 0x3EC3EF15#32
  | 118 => 0xBF3504F3#32
  | 119 => 0x3F6C835E#32
  | 120 => 0xBF800000#32
  | 121 => 0x3F6C835E#32
  | 122 => 0xBF3504F3#32
  | 123 => 0x3EC3EF15#32
  | 124 => 0x248D3132#32
  | 125 => 0xBEC3EF15#32
  | 126 => 0x3F3504F3#32
  | 127 => 0xBF6C835E#32
  | _ => 0#32

noncomputable abbrev lit0t0_284 (i : Nat) : BitVec 32 := match i % 128 with
  | 0 => 0x3F800000#32
  | 1 => 0xBF6C835E#32
  | 2 => 0x3F3504F3#32
  | 3 => 0xBEC3EF15#32
  | 4 => 0xA553C9CA#32
  | 5 => 0x3EC3EF15#32
  | 6 => 0xBF3504F3#32
  | 7 => 0x3F6C835E#32
  | 8 => 0xBF800000#32
  | 9 => 0x3F6C835E#32
  | 10 => 0xBF3504F3#32
  | 11 => 0x3EC3EF15#32
  | 12 => 0x248D3132#32
  | 13 => 0xBEC3EF15#32
  | 14 => 0x3F3504F3#32
  | 15 => 0xBF6C835E#32
  | 16 => 0x3F800000#32
  | 17 => 0xBF6C835E#32
  | 18 => 0x3F3504F3#32
  | 19 => 0xBEC3EF15#32
  | 20 => 0xA553C9CA#32
  | 21 => 0x3EC3EF15#32
  | 22 => 0xBF3504F3#32
  | 23 => 0x3F6C835E#32
  | 24 => 0xBF800000#32
  | 25 => 0x3F6C835E#32
  | 26 => 0xBF3504F3#32
  | 27 => 0x3EC3EF15#32
  | 28 => 0x248D3132#32
  | 29 => 0xBEC3EF15#32
  | 30 => 0x3F3504F3#32
  | 31 => 0xBF6C835E#32
  | 32 => 0x3F800000#32
  | 33 => 0xBF6C835E#32
  | 34 => 0x3F3504F3#32
  | 35 => 0xBEC3EF15#32
  | 36 => 0xA553C9CA#32
  | 37 => 0x3EC3EF15#32
  | 38 => 0xBF3504F3#32
  | 39 => 0x3F6C835E#32
  | 40 => 0xBF800000#32
  | 41 => 0x3F6C835E#32
  | 42 => 0xBF3504F3#32
  | 43 => 0x3EC3EF15#32
  | 44 => 0x248D3132#32
  | 45 => 0xBEC3EF15#32
  | 46 => 0x3F3504F3#32
  | 47 => 0xBF6C835E#32
  | 48 => 0x3F800000#32
  | 49 => 0xBF6C835E#32
  | 50 => 0x3F3504F3#32
  | 51 => 0xBEC3EF15#32
  | 52 => 0xA553C9CA#32
  | 53 => 0x3EC3EF15#32
  | 54 => 0xBF3504F3#32
  | 55 => 0x3F6C835E#32
  | 56 => 0xBF800000#32
  | 57 => 0x3F6C835E#32
  | 58 => 0xBF3504F3#32
  | 59 => 0x3EC3EF15#32
  | 60 => 0x248D3132#32
  | 61 => 0xBEC3EF15#32
  | 62 => 0x3F3504F3#32
  | 63 => 0xBF6C835E#32
  | 64 => 0x3F800000#32
  | 65 => 0xBF6C835E#32
  | 66 => 0x3F3504F3#32
  | 67 => 0xBEC3EF15#32
  | 68 => 0xA553C9CA#32
  | 69 => 0x3EC3EF15#32
  | 70 => 0xBF3504F3#32
  | 71 => 0x3F6C835E#32
  | 72 => 0xBF800000#32
  | 73 => 0x3F6C835E#32
  | 74 => 0xBF3504F3#32
  | 75 => 0x3EC3EF15#32
  | 76 => 0x248D3132#32
  | 77 => 0xBEC3EF15#32
  | 78 => 0x3F3504F3#32
  | 79 => 0xBF6C835E#32
  | 80 => 0x3F800000#32
  | 81 => 0xBF6C835E#32
  | 82 => 0x3F3504F3#32
  | 83 => 0xBEC3EF15#32
  | 84 => 0xA553C9CA#32
  | 85 => 0x3EC3EF15#32
  | 86 => 0xBF3504F3#32
  | 87 => 0x3F6C835E#32
  | 88 => 0xBF800000#32
  | 89 => 0x3F6C835E#32
  | 90 => 0xBF3504F3#32
  | 91 => 0x3EC3EF15#32
  | 92 => 0x248D3132#32
  | 93 => 0xBEC3EF15#32
  | 94 => 0x3F3504F3#32
  | 95 => 0xBF6C835E#32
  | 96 => 0x3F800000#32
  | 97 => 0xBF6C835E#32
  | 98 => 0x3F3504F3#32
  | 99 => 0xBEC3EF15#32
  | 100 => 0xA553C9CA#32
  | 101 => 0x3EC3EF15#32
  | 102 => 0xBF3504F3#32
  | 103 => 0x3F6C835E#32
  | 104 => 0xBF800000#32
  | 105 => 0x3F6C835E#32
  | 106 => 0xBF3504F3#32
  | 107 => 0x3EC3EF15#32
  | 108 => 0x248D3132#32
  | 109 => 0xBEC3EF15#32
  | 110 => 0x3F3504F3#32
  | 111 => 0xBF6C835E#32
  | 112 => 0x3F800000#32
  | 113 => 0xBF6C835E#32
  | 114 => 0x3F3504F3#32
  | 115 => 0xBEC3EF15#32
  | 116 => 0xA553C9CA#32
  | 117 => 0x3EC3EF15#32
  | 118 => 0xBF3504F3#32
  | 119 => 0x3F6C835E#32
  | 120 => 0xBF800000#32
  | 121 => 0x3F6C835E#32
  | 122 => 0xBF3504F3#32
  | 123 => 0x3EC3EF15#32
  | 124 => 0x248D3132#32
  | 125 => 0xBEC3EF15#32
  | 126 => 0x3F3504F3#32
  | 127 => 0xBF6C835E#32
  | _ => 0#32

noncomputable abbrev lit0t0_285 (i : Nat) : BitVec 32 := match i % 128 with
  | 0 => 0x3F800000#32
  | 1 => 0xBF6C835E#32
  | 2 => 0x3F3504F3#32
  | 3 => 0xBEC3EF15#32
  | 4 => 0xA553C9CA#32
  | 5 => 0x3EC3EF15#32
  | 6 => 0xBF3504F3#32
  | 7 => 0x3F6C835E#32
  | 8 => 0xBF800000#32
  | 9 => 0x3F6C835E#32
  | 10 => 0xBF3504F3#32
  | 11 => 0x3EC3EF15#32
  | 12 => 0x248D3132#32
  | 13 => 0xBEC3EF15#32
  | 14 => 0x3F3504F3#32
  | 15 => 0xBF6C835E#32
  | 16 => 0x3F800000#32
  | 17 => 0xBF6C835E#32
  | 18 => 0x3F3504F3#32
  | 19 => 0xBEC3EF15#32
  | 20 => 0xA553C9CA#32
  | 21 => 0x3EC3EF15#32
  | 22 => 0xBF3504F3#32
  | 23 => 0x3F6C835E#32
  | 24 => 0xBF800000#32
  | 25 => 0x3F6C835E#32
  | 26 => 0xBF3504F3#32
  | 27 => 0x3EC3EF15#32
  | 28 => 0x248D3132#32
  | 29 => 0xBEC3EF15#32
  | 30 => 0x3F3504F3#32
  | 31 => 0xBF6C835E#32
  | 32 => 0x3F800000#32
  | 33 => 0xBF6C835E#32
  | 34 => 0x3F3504F3#32
  | 35 => 0xBEC3EF15#32
  | 36 => 0xA553C9CA#32
  | 37 => 0x3EC3EF15#32
  | 38 => 0xBF3504F3#32
  | 39 => 0x3F6C835E#32
  | 40 => 0xBF800000#32
  | 41 => 0x3F6C835E#32
  | 42 => 0xBF3504F3#32
  | 43 => 0x3EC3EF15#32
  | 44 => 0x248D3132#32
  | 45 => 0xBEC3EF15#32
  | 46 => 0x3F3504F3#32
  | 47 => 0xBF6C835E#32
  | 48 => 0x3F800000#32
  | 49 => 0xBF6C835E#32
  | 50 => 0x3F3504F3#32
  | 51 => 0xBEC3EF15#32
  | 52 => 0xA553C9CA#32
  | 53 => 0x3EC3EF15#32
  | 54 => 0xBF3504F3#32
  | 55 => 0x3F6C835E#32
  | 56 => 0xBF800000#32
  | 57 => 0x3F6C835E#32
  | 58 => 0xBF3504F3#32
  | 59 => 0x3EC3EF15#32
  | 60 => 0x248D3132#32
  | 61 => 0xBEC3EF15#32
  | 62 => 0x3F3504F3#32
  | 63 => 0xBF6C835E#32
  | 64 => 0x3F800000#32
  | 65 => 0xBF6C835E#32
  | 66 => 0x3F3504F3#32
  | 67 => 0xBEC3EF15#32
  | 68 => 0xA553C9CA#32
  | 69 => 0x3EC3EF15#32
  | 70 => 0xBF3504F3#32
  | 71 => 0x3F6C835E#32
  | 72 => 0xBF800000#32
  | 73 => 0x3F6C835E#32
  | 74 => 0xBF3504F3#32
  | 75 => 0x3EC3EF15#32
  | 76 => 0x248D3132#32
  | 77 => 0xBEC3EF15#32
  | 78 => 0x3F3504F3#32
  | 79 => 0xBF6C835E#32
  | 80 => 0x3F800000#32
  | 81 => 0xBF6C835E#32
  | 82 => 0x3F3504F3#32
  | 83 => 0xBEC3EF15#32
  | 84 => 0xA553C9CA#32
  | 85 => 0x3EC3EF15#32
  | 86 => 0xBF3504F3#32
  | 87 => 0x3F6C835E#32
  | 88 => 0xBF800000#32
  | 89 => 0x3F6C835E#32
  | 90 => 0xBF3504F3#32
  | 91 => 0x3EC3EF15#32
  | 92 => 0x248D3132#32
  | 93 => 0xBEC3EF15#32
  | 94 => 0x3F3504F3#32
  | 95 => 0xBF6C835E#32
  | 96 => 0x3F800000#32
  | 97 => 0xBF6E9811#32
  | 98 => 0x3F3CBE35#32
  | 99 => 0xBEE273AA#32
  | 100 => 0x3DB27EB6#32
  | 101 => 0x3E8F45C0#32
  | 102 => 0xBF1BD7CA#32
  | 103 => 0x3F5ADB81#32
  | 104 => 0xBF7C1C5C#32
  | 105 => 0x3F7B14BE#32
  | 106 => 0xBF57E880#32
  | 107 => 0x3F176012#32
  | 108 => 0xBE8483EE#32
  | 109 => 0xBDDEF599#32
  | 110 => 0x3EEC6A50#32
  | 111 => 0xBF407893#32
  | 112 => 0x3F708FB2#32
  | 113 => 0xBF7FF067#32
  | 114 => 0x3F6C835E#32
  | 115 => 0xBF38ECD8#32
  | 116 => 0x3ED8616C#32
  | 117 => 0xBD85F213#32
  | 118 => 0xBE99F61C#32
  | 119 => 0x3F203C85#32
  | 120 => 0xBF5DB3D7#32
  | 121 => 0x3F7D0543#32
  | 122 => 0xBF79EE89#32
  | 123 => 0x3F54DB31#32
  | 124 => 0xBF12D5E8#32
  | 125 => 0x3E7363EE#32
  | 126 => 0x3E05A8A8#32
  | 127 => 0xBEF64429#32
  | _ => 0#32

noncomputable abbrev lit0t0_286 (i : Nat) : BitVec 32 := match i % 128 with
  | 0 => 0x3F441B7D#32
  | 1 => 0xBF726A03#32
  | 2 => 0x3F7FC1A0#32
  | 3 => 0xBF6A51DA#32
  | 4 => 0x3F3504F3#32
  | 5 => 0xBECE34D0#32
  | 6 => 0x3D32AA3E#32
  | 7 => 0x3EA493B7#32
  | 8 => 0xBF248DBB#32
  | 9 => 0x3F60712A#32
  | 10 => 0xBF7DCF55#32
  | 11 => 0x3F78A9E0#32
  | 12 => 0xBF51B3F3#32
  | 13 => 0x3F0E39DA#32
  | 14 => 0xBE5DA259#32
  | 15 => 0xBE1BC63C#32
  | 16 => 0x3F000000#32
  | 17 => 0xBF47A682#32
  | 18 => 0x3F7426CB#32
  | 19 => 0xBF7F73AF#32
  | 20 => 0x3F6803CA#32
  | 21 => 0xBF310700#32
  | 22 => 0x3EC3EF15#32
  | 23 => 0xBCB2B521#32
  | 24 => 0xBEAF1D44#32
  | 25 => 0x3F28CAE3#32
  | 26 => 0xBF631324#32
  | 27 => 0x3F7E7A7A#32
  | 28 => 0xBF7746EA#32
  | 29 => 0x3F4E7327#32
  | 30 => 0xBF098C78#32
  | 31 => 0x3E47C5C2#32
  | 32 => 0x3E31D0D4#32
  | 33 => 0xBF04CE53#32
  | 34 => 0x3F4B1934#32
  | 35 => 0xBF75C5D4#32
  | 36 => 0x3F7F069E#32
  | 37 => 0xBF659974#32
  | 38 => 0x3F2CF37B#32
  | 39 => 0xBEB9917B#32
  | 40 => 0xA553C9CA#32
  | 41 => 0x3EB9917B#32
  | 42 => 0xBF2CF37B#32
  | 43 => 0x3F659974#32
  | 44 => 0xBF7F069E#32
  | 45 => 0x3F75C5D4#32
  | 46 => 0xBF4B1934#32
  | 47 => 0x3F04CE53#32
  | 48 => 0xBE31D0D4#32
  | 49 => 0xBE47C5C2#32
  | 50 => 0x3F098C78#32
  | 51 => 0xBF4E7327#32
  | 52 => 0x3F7746EA#32
  | 53 => 0xBF7E7A7A#32
  | 54 => 0x3F631324#32
  | 55 => 0xBF28CAE3#32
  | 56 => 0x3EAF1D44#32
  | 57 => 0x3CB2B521#32
  | 58 => 0xBEC3EF15#32
  | 59 => 0x3F310700#32
  | 60 => 0xBF6803CA#32
  | 61 => 0x3F7F73AF#32
  | 62 => 0xBF7426CB#32
  | 63 => 0x3F47A682#32
  | 64 => 0xBF000000#32
  | 65 => 0x3E1BC63C#32
  | 66 => 0x3E5DA259#32
  | 67 => 0xBF0E39DA#32
  | 68 => 0x3F51B3F3#32
  | 69 => 0xBF78A9E0#32
  | 70 => 0x3F7DCF55#32
  | 71 => 0xBF60712A#32
  | 72 => 0x3F248DBB#32
  | 73 => 0xBEA493B7#32
  | 74 => 0xBD32AA3E#32
  | 75 => 0x3ECE34D0#32
  | 76 => 0xBF3504F3#32
  | 77 => 0x3F6A51DA#32
  | 78 => 0xBF7FC1A0#32
  | 79 => 0x3F726A03#32
  | 80 => 0xBF441B7D#32
  | 81 => 0x3EF64429#32
  | 82 => 0xBE05A8A8#32
  | 83 => 0xBE7363EE#32
  | 84 => 0x3F12D5E8#32
  | 85 => 0xBF54DB31#32
  | 86 => 0x3F79EE89#32
  | 87 => 0xBF7D0543#32
  | 88 => 0x3F5DB3D7#32
  | 89 => 0xBF203C85#32
  | 90 => 0x3E99F61C#32
  | 91 => 0x3D85F213#32
  | 92 => 0xBED8616C#32
  | 93 => 0x3F38ECD8#32
  | 94 => 0xBF6C835E#32
  | 95 => 0x3F7FF067#32
  | 96 => 0xBF708FB2#32
  | 97 => 0x3F407893#32
  | 98 => 0xBEEC6A50#32
  | 99 => 0x3DDEF599#32
  | 100 => 0x3E8483EE#32
  | 101 => 0xBF176012#32
  | 102 => 0x3F57E880#32
  | 103 => 0xBF7B14BE#32
  | 104 => 0x3F7C1C5C#32
  | 105 => 0xBF5ADB81#32
  | 106 => 0x3F1BD7CA#32
  | 107 => 0xBE8F45C0#32
  | 108 => 0xBDB27EB6#32
  | 109 => 0x3EE273AA#32
  | 110 => 0xBF3CBE35#32
  | 111 => 0x3F6E9811#32
  | 112 => 0xBF800000#32
  | 113 => 0x3F6E9811#32
  | 114 => 0xBF3CBE35#32
  | 115 => 0x3EE273AA#32
  | 116 => 0xBDB27EB6#32
  | 117 => 0xBE8F45C0#32
  | 118 => 0x3F1BD7CA#32
  | 119 => 0xBF5ADB81#32
  | 120 => 0x3F7C1C5C#32
  | 121 => 0xBF7B14BE#32
  | 122 => 0x3F57E880#32
  | 123 => 0xBF176012#32
  | 124 => 0x3E8483EE#32
  | 125 => 0x3DDEF599#32
  | 126 => 0xBEEC6A50#32
  | 127 => 0x3F407893#32
  | _ => 0#32

noncomputable abbrev lit0t0_287 (i : Nat) : BitVec 32 := match i % 128 with
  | 0 => 0xBF708FB2#32
  | 1 => 0x3F7FF067#32
  | 2 => 0xBF6C835E#32
  | 3 => 0x3F38ECD8#32
  | 4 => 0xBED8616C#32
  | 5 => 0x3D85F213#32
  | 6 => 0x3E99F61C#32
  | 7 => 0xBF203C85#32
  | 8 => 0x3F5DB3D7#32
  | 9 => 0xBF7D0543#32
  | 10 => 0x3F79EE89#32
  | 11 => 0xBF54DB31#32
  | 12 => 0x3F12D5E8#32
  | 13 => 0xBE7363EE#32
  | 14 => 0xBE05A8A8#32
  | 15 => 0x3EF64429#32
  | 16 => 0xBF441B7D#32
  | 17 => 0x3F726A03#32
  | 18 => 0xBF7FC1A0#32
  | 19 => 0x3F6A51DA#32
  | 20 => 0xBF3504F3#32
  | 21 => 0x3ECE34D0#32
  | 22 => 0xBD32AA3E#32
  | 23 => 0xBEA493B7#32
  | 24 => 0x3F248DBB#32
  | 25 => 0xBF60712A#32
  | 26 => 0x3F7DCF55#32
  | 27 => 0xBF78A9E0#32
  | 28 => 0x3F51B3F3#32
  | 29 => 0xBF0E39DA#32
  | 30 => 0x3E5DA259#32
  | 31 => 0x3E1BC63C#32
  | 32 => 0xBF000000#32
  | 33 => 0x3F47A682#32
  | 34 => 0xBF7426CB#32
  | 35 => 0x3F7F73AF#32
  | 36 => 0xBF6803CA#32
  | 37 => 0x3F310700#32
  | 38 => 0xBEC3EF15#32
  | 39 => 0x3CB2B521#32
  | 40 => 0x3EAF1D44#32
  | 41 => 0xBF28CAE3#32
  | 42 => 0x3F631324#32
  | 43 => 0xBF7E7A7A#32
  | 44 => 0x3F7746EA#32
  | 45 => 0xBF4E7327#32
  | 46 => 0x3F098C78#32
  | 47 => 0xBE47C5C2#32
  | 48 => 0xBE31D0D4#32
  | 49 => 0x3F04CE53#32
  | 50 => 0xBF4B1934#32
  | 51 => 0x3F75C5D4#32
  | 52 => 0xBF7F069E#32
  | 53 => 0x3F659974#32
  | 54 => 0xBF2CF37B#32
  | 55 => 0x3EB9917B#32
  | 56 => 0x248D3132#32
  | 57 => 0xBEB9917B#32
  | 58 => 0x3F2CF37B#32
  | 59 => 0xBF659974#32
  | 60 => 0x3F7F069E#32
  | 61 => 0xBF75C5D4#32
  | 62 => 0x3F4B1934#32
  | 63 => 0xBF04CE53#32
  | 64 => 0x3E31D0D4#32
  | 65 => 0x3E47C5C2#32
  | 66 => 0xBF098C78#32
  | 67 => 0x3F4E7327#32
  | 68 => 0xBF7746EA#32
  | 69 => 0x3F7E7A7A#32
  | 70 => 0xBF631324#32
  | 71 => 0x3F28CAE3#32
  | 72 => 0xBEAF1D44#32
  | 73 => 0xBCB2B521#32
  | 74 => 0x3EC3EF15#32
  | 75 => 0xBF310700#32
  | 76 => 0x3F6803CA#32
  | 77 => 0xBF7F73AF#32
  | 78 => 0x3F7426CB#32
  | 79 => 0xBF47A682#32
  | 80 => 0x3F000000#32
  | 81 => 0xBE1BC63C#32
  | 82 => 0xBE5DA259#32
  | 83 => 0x3F0E39DA#32
  | 84 => 0xBF51B3F3#32
  | 85 => 0x3F78A9E0#32
  | 86 => 0xBF7DCF55#32
  | 87 => 0x3F60712A#32
  | 88 => 0xBF248DBB#32
  | 89 => 0x3EA493B7#32
  | 90 => 0x3D32AA3E#32
  | 91 => 0xBECE34D0#32
  | 92 => 0x3F3504F3#32
  | 93 => 0xBF6A51DA#32
  | 94 => 0x3F7FC1A0#32
  | 95 => 0xBF726A03#32
  | 96 => 0x3F441B7D#32
  | 97 => 0xBEF64429#32
  | 98 => 0x3E05A8A8#32
  | 99 => 0x3E7363EE#32
  | 100 => 0xBF12D5E8#32
  | 101 => 0x3F54DB31#32
  | 102 => 0xBF79EE89#32
  | 103 => 0x3F7D0543#32
  | 104 => 0xBF5DB3D7#32
  | 105 => 0x3F203C85#32
  | 106 => 0xBE99F61C#32
  | 107 => 0xBD85F213#32
  | 108 => 0x3ED8616C#32
  | 109 => 0xBF38ECD8#32
  | 110 => 0x3F6C835E#32
  | 111 => 0xBF7FF067#32
  | 112 => 0x3F708FB2#32
  | 113 => 0xBF407893#32
  | 114 => 0x3EEC6A50#32
  | 115 => 0xBDDEF599#32
  | 116 => 0xBE8483EE#32
  | 117 => 0x3F176012#32
  | 118 => 0xBF57E880#32
  | 119 => 0x3F7B14BE#32
  | 120 => 0xBF7C1C5C#32
  | 121 => 0x3F5ADB81#32
  | 122 => 0xBF1BD7CA#32
  | 123 => 0x3E8F45C0#32
  | 124 => 0x3DB27EB6#32
  | 125 => 0xBEE273AA#32
  | 126 => 0x3F3CBE35#32
  | 127 => 0xBF6E9811#32
  | _ => 0#32

noncomputable abbrev lit0t0_288 (i : Nat) : BitVec 32 := match i % 128 with
  | 0 => 0x3F800000#32
  | 1 => 0xBF708FB2#32
  | 2 => 0x3F441B7D#32
  | 3 => 0xBF000000#32
  | 4 => 0x3E31D0D4#32
  | 5 => 0x3E31D0D4#32
  | 6 => 0xBF000000#32
  | 7 => 0x3F441B7D#32
  | 8 => 0xBF708FB2#32
  | 9 => 0x3F800000#32
  | 10 => 0xBF708FB2#32
  | 11 => 0x3F441B7D#32
  | 12 => 0xBF000000#32
  | 13 => 0x3E31D0D4#32
  | 14 => 0x3E31D0D4#32
  | 15 => 0xBF000000#32
  | 16 => 0x3F441B7D#32
  | 17 => 0xBF708FB2#32
  | 18 => 0x3F800000#32
  | 19 => 0xBF708FB2#32
  | 20 => 0x3F441B7D#32
  | 21 => 0xBF000000#32
  | 22 => 0x3E31D0D4#32
  | 23 => 0x3E31D0D4#32
  | 24 => 0xBF000000#32
  | 25 => 0x3F441B7D#32
  | 26 => 0xBF708FB2#32
  | 27 => 0x3F800000#32
  | 28 => 0xBF708FB2#32
  | 29 => 0x3F441B7D#32
  | 30 => 0xBF000000#32
  | 31 => 0x3E31D0D4#32
  | 32 => 0x3E31D0D4#32
  | 33 => 0xBF000000#32
  | 34 => 0x3F441B7D#32
  | 35 => 0xBF708FB2#32
  | 36 => 0x3F800000#32
  | 37 => 0xBF708FB2#32
  | 38 => 0x3F441B7D#32
  | 39 => 0xBF000000#32
  | 40 => 0x3E31D0D4#32
  | 41 => 0x3E31D0D4#32
  | 42 => 0xBF000000#32
  | 43 => 0x3F441B7D#32
  | 44 => 0xBF708FB2#32
  | 45 => 0x3F800000#32
  | 46 => 0xBF708FB2#32
  | 47 => 0x3F441B7D#32
  | 48 => 0xBF000000#32
  | 49 => 0x3E31D0D4#32
  | 50 => 0x3E31D0D4#32
  | 51 => 0xBF000000#32
  | 52 => 0x3F441B7D#32
  | 53 => 0xBF708FB2#32
  | 54 => 0x3F800000#32
  | 55 => 0xBF708FB2#32
  | 56 => 0x3F441B7D#32
  | 57 => 0xBF000000#32
  | 58 => 0x3E31D0D4#32
  | 59 => 0x3E31D0D4#32
  | 60 => 0xBF000000#32
  | 61 => 0x3F441B7D#32
  | 62 => 0xBF708FB2#32
  | 63 => 0x3F800000#32
  | 64 => 0xBF708FB2#32
  | 65 => 0x3F441B7D#32
  | 66 => 0xBF000000#32
  | 67 => 0x3E31D0D4#32
  | 68 => 0x3E31D0D4#32
  | 69 => 0xBF000000#32
  | 70 => 0x3F441B7D#32
  | 71 => 0xBF708FB2#32
  | 72 => 0x3F800000#32
  | 73 => 0xBF708FB2#32
  | 74 => 0x3F441B7D#32
  | 75 => 0xBF000000#32
  | 76 => 0x3E31D0D4#32
  | 77 => 0x3E31D0D4#32
  | 78 => 0xBF000000#32
  | 79 => 0x3F441B7D#32
  | 80 => 0xBF708FB2#32
  | 81 => 0x3F800000#32
  | 82 => 0xBF708FB2#32
  | 83 => 0x3F441B7D#32
  | 84 => 0xBF000000#32
  | 85 => 0x3E31D0D4#32
  | 86 => 0x3E31D0D4#32
  | 87 => 0xBF000000#32
  | 88 => 0x3F441B7D#32
  | 89 => 0xBF708FB2#32
  | 90 => 0x3F800000#32
  | 91 => 0xBF708FB2#32
  | 92 => 0x3F441B7D#32
  | 93 => 0xBF000000#32
  | 94 => 0x3E31D0D4#32
  | 95 => 0x3E31D0D4#32
  | 96 => 0xBF000000#32
  | 97 => 0x3F441B7D#32
  | 98 => 0xBF708FB2#32
  | 99 => 0x3F800000#32
  | 100 => 0xBF708FB2#32
  | 101 => 0x3F441B7D#32
  | 102 => 0xBF000000#32
  | 103 => 0x3E31D0D4#32
  | 104 => 0x3E31D0D4#32
  | 105 => 0xBF000000#32
  | 106 => 0x3F441B7D#32
  | 107 => 0xBF708FB2#32
  | 108 => 0x3F800000#32
  | 109 => 0xBF708FB2#32
  | 110 => 0x3F441B7D#32
  | 111 => 0xBF000000#32
  | 112 => 0x3E31D0D4#32
  | 113 => 0x3E31D0D4#32
  | 114 => 0xBF000000#32
  | 115 => 0x3F441B7D#32
  | 116 => 0xBF708FB2#32
  | 117 => 0x3F800000#32
  | 118 => 0xBF708FB2#32
  | 119 => 0x3F441B7D#32
  | 120 => 0xBF000000#32
  | 121 => 0x3E31D0D4#32
  | 122 => 0x3E31D0D4#32
  | 123 => 0xBF000000#32
  | 124 => 0x3F441B7D#32
  | 125 => 0xBF708FB2#32
  | 126 => 0x3F800000#32
  | 127 => 0xBF708FB2#32
  | _ => 0#32

noncomputable abbrev lit0t0_289 (i : Nat) : BitVec 32 := match i % 128 with
  | 0 => 0x3F441B7D#32
  | 1 => 0xBF000000#32
  | 2 => 0x3E31D0D4#32
  | 3 => 0x3E31D0D4#32
  | 4 => 0xBF000000#32
  | 5 => 0x3F441B7D#32
  | 6 => 0xBF708FB2#32
  | 7 => 0x3F800000#32
  | 8 => 0xBF708FB2#32
  | 9 => 0x3F441B7D#32
  | 10 => 0xBF000000#32
  | 11 => 0x3E31D0D4#32
  | 12 => 0x3E31D0D4#32
  | 13 => 0xBF000000#32
  | 14 => 0x3F441B7D#32
  | 15 => 0xBF708FB2#32
  | 16 => 0x3F800000#32
  | 17 => 0xBF708FB2#32
  | 18 => 0x3F441B7D#32
  | 19 => 0xBF000000#32
  | 20 => 0x3E31D0D4#32
  | 21 => 0x3E31D0D4#32
  | 22 => 0xBF000000#32
  | 23 => 0x3F441B7D#32
  | 24 => 0xBF708FB2#32
  | 25 => 0x3F800000#32
  | 26 => 0xBF708FB2#32
  | 27 => 0x3F441B7D#32
  | 28 => 0xBF000000#32
  | 29 => 0x3E31D0D4#32
  | 30 => 0x3E31D0D4#32
  | 31 => 0xBF000000#32
  | 32 => 0x3F441B7D#32
  | 33 => 0xBF708FB2#32
  | 34 => 0x3F800000#32
  | 35 => 0xBF708FB2#32
  | 36 => 0x3F441B7D#32
  | 37 => 0xBF000000#32
  | 38 => 0x3E31D0D4#32
  | 39 => 0x3E31D0D4#32
  | 40 => 0xBF000000#32
  | 41 => 0x3F441B7D#32
  | 42 => 0xBF708FB2#32
  | 43 => 0x3F800000#32
  | 44 => 0xBF708FB2#32
  | 45 => 0x3F441B7D#32
  | 46 => 0xBF000000#32
  | 47 => 0x3E31D0D4#32
  | 48 => 0x3E31D0D4#32
  | 49 => 0xBF000000#32
  | 50 => 0x3F441B7D#32
  | 51 => 0xBF708FB2#32
  | 52 => 0x3F800000#32
  | 53 => 0xBF708FB2#32
  | 54 => 0x3F441B7D#32
  | 55 => 0xBF000000#32
  | 56 => 0x3E31D0D4#32
  | 57 => 0x3E31D0D4#32
  | 58 => 0xBF000000#32
  | 59 => 0x3F441B7D#32
  | 60 => 0xBF708FB2#32
  | 61 => 0x3F800000#32
  | 62 => 0xBF708FB2#32
  | 63 => 0x3F441B7D#32
  | 64 => 0xBF000000#32
  | 65 => 0x3E31D0D4#32
  | 66 => 0x3E31D0D4#32
  | 67 => 0xBF000000#32
  | 68 => 0x3F441B7D#32
  | 69 => 0xBF708FB2#32
  | 70 => 0x3F800000#32
  | 71 => 0xBF708FB2#32
  | 72 => 0x3F441B7D#32
  | 73 => 0xBF000000#32
  | 74 => 0x3E31D0D4#32
  | 75 => 0x3E31D0D4#32
  | 76 => 0xBF000000#32
  | 77 => 0x3F441B7D#32
  | 78 => 0xBF708FB2#32
  | 79 => 0x3F800000#32
  | 80 => 0xBF708FB2#32
  | 81 => 0x3F441B7D#32
  | 82 => 0xBF000000#32
  | 83 => 0x3E31D0D4#32
  | 84 => 0x3E31D0D4#32
  | 85 => 0xBF000000#32
  | 86 => 0x3F441B7D#32
  | 87 => 0xBF708FB2#32
  | 88 => 0x3F800000#32
  | 89 => 0xBF708FB2#32
  | 90 => 0x3F441B7D#32
  | 91 => 0xBF000000#32
  | 92 => 0x3E31D0D4#32
  | 93 => 0x3E31D0D4#32
  | 94 => 0xBF000000#32
  | 95 => 0x3F441B7D#32
  | 96 => 0xBF708FB2#32
  | 97 => 0x3F800000#32
  | 98 => 0xBF708FB2#32
  | 99 => 0x3F441B7D#32
  | 100 => 0xBF000000#32
  | 101 => 0x3E31D0D4#32
  | 102 => 0x3E31D0D4#32
  | 103 => 0xBF000000#32
  | 104 => 0x3F441B7D#32
  | 105 => 0xBF708FB2#32
  | 106 => 0x3F800000#32
  | 107 => 0xBF708FB2#32
  | 108 => 0x3F441B7D#32
  | 109 => 0xBF000000#32
  | 110 => 0x3E31D0D4#32
  | 111 => 0x3E31D0D4#32
  | 112 => 0xBF000000#32
  | 113 => 0x3F441B7D#32
  | 114 => 0xBF708FB2#32
  | 115 => 0x3F800000#32
  | 116 => 0xBF708FB2#32
  | 117 => 0x3F441B7D#32
  | 118 => 0xBF000000#32
  | 119 => 0x3E31D0D4#32
  | 120 => 0x3E31D0D4#32
  | 121 => 0xBF000000#32
  | 122 => 0x3F441B7D#32
  | 123 => 0xBF708FB2#32
  | 124 => 0x3F800000#32
  | 125 => 0xBF708FB2#32
  | 126 => 0x3F441B7D#32
  | 127 => 0xBF000000#32
  | _ => 0#32

noncomputable abbrev lit0t0_290 (i : Nat) : BitVec 32 := match i % 128 with
  | 0 => 0x3E31D0D4#32
  | 1 => 0x3E31D0D4#32
  | 2 => 0xBF000000#32
  | 3 => 0x3F441B7D#32
  | 4 => 0xBF708FB2#32
  | 5 => 0x3F800000#32
  | 6 => 0xBF708FB2#32
  | 7 => 0x3F441B7D#32
  | 8 => 0xBF000000#32
  | 9 => 0x3E31D0D4#32
  | 10 => 0x3E31D0D4#32
  | 11 => 0xBF000000#32
  | 12 => 0x3F441B7D#32
  | 13 => 0xBF708FB2#32
  | 14 => 0x3F800000#32
  | 15 => 0xBF708FB2#32
  | 16 => 0x3F441B7D#32
  | 17 => 0xBF000000#32
  | 18 => 0x3E31D0D4#32
  | 19 => 0x3E31D0D4#32
  | 20 => 0xBF000000#32
  | 21 => 0x3F441B7D#32
  | 22 => 0xBF708FB2#32
  | 23 => 0x3F800000#32
  | 24 => 0xBF708FB2#32
  | 25 => 0x3F441B7D#32
  | 26 => 0xBF000000#32
  | 27 => 0x3E31D0D4#32
  | 28 => 0x3E31D0D4#32
  | 29 => 0xBF000000#32
  | 30 => 0x3F441B7D#32
  | 31 => 0xBF708FB2#32
  | 32 => 0x3F800000#32
  | 33 => 0xBF726A03#32
  | 34 => 0x3F4B1934#32
  | 35 => 0xBF0E39DA#32
  | 36 => 0x3E8483EE#32
  | 37 => 0x3D85F213#32
  | 38 => 0xBEC3EF15#32
  | 39 => 0x3F28CAE3#32
  | 40 => 0xBF5DB3D7#32
  | 41 => 0x3F7B14BE#32
  | 42 => 0xBF7DCF55#32
  | 43 => 0x3F659974#32
  | 44 => 0xBF3504F3#32
  | 45 => 0x3EE273AA#32
  | 46 => 0xBE05A8A8#32
  | 47 => 0xBE47C5C2#32
  | 48 => 0x3F000000#32
  | 49 => 0xBF407893#32
  | 50 => 0x3F6C835E#32
  | 51 => 0xBF7F73AF#32
  | 52 => 0x3F7746EA#32
  | 53 => 0xBF54DB31#32
  | 54 => 0x3F1BD7CA#32
  | 55 => 0xBEA493B7#32
  | 56 => 0xA553C9CA#32
  | 57 => 0x3EA493B7#32
  | 58 => 0xBF1BD7CA#32
  | 59 => 0x3F54DB31#32
  | 60 => 0xBF7746EA#32
  | 61 => 0x3F7F73AF#32
  | 62 => 0xBF6C835E#32
  | 63 => 0x3F407893#32
  | 64 => 0xBF000000#32
  | 65 => 0x3E47C5C2#32
  | 66 => 0x3E05A8A8#32
  | 67 => 0xBEE273AA#32
  | 68 => 0x3F3504F3#32
  | 69 => 0xBF659974#32
  | 70 => 0x3F7DCF55#32
  | 71 => 0xBF7B14BE#32
  | 72 => 0x3F5DB3D7#32
  | 73 => 0xBF28CAE3#32
  | 74 => 0x3EC3EF15#32
  | 75 => 0xBD85F213#32
  | 76 => 0xBE8483EE#32
  | 77 => 0x3F0E39DA#32
  | 78 => 0xBF4B1934#32
  | 79 => 0x3F726A03#32
  | 80 => 0xBF800000#32
  | 81 => 0x3F726A03#32
  | 82 => 0xBF4B1934#32
  | 83 => 0x3F0E39DA#32
  | 84 => 0xBE8483EE#32
  | 85 => 0xBD85F213#32
  | 86 => 0x3EC3EF15#32
  | 87 => 0xBF28CAE3#32
  | 88 => 0x3F5DB3D7#32
  | 89 => 0xBF7B14BE#32
  | 90 => 0x3F7DCF55#32
  | 91 => 0xBF659974#32
  | 92 => 0x3F3504F3#32
  | 93 => 0xBEE273AA#32
  | 94 => 0x3E05A8A8#32
  | 95 => 0x3E47C5C2#32
  | 96 => 0xBF000000#32
  | 97 => 0x3F407893#32
  | 98 => 0xBF6C835E#32
  | 99 => 0x3F7F73AF#32
  | 100 => 0xBF7746EA#32
  | 101 => 0x3F54DB31#32
  | 102 => 0xBF1BD7CA#32
  | 103 => 0x3EA493B7#32
  | 104 => 0x248D3132#32
  | 105 => 0xBEA493B7#32
  | 106 => 0x3F1BD7CA#32
  | 107 => 0xBF54DB31#32
  | 108 => 0x3F7746EA#32
  | 109 => 0xBF7F73AF#32
  | 110 => 0x3F6C835E#32
  | 111 => 0xBF407893#32
  | 112 => 0x3F000000#32
  | 113 => 0xBE47C5C2#32
  | 114 => 0xBE05A8A8#32
  | 115 => 0x3EE273AA#32
  | 116 => 0xBF3504F3#32
  | 117 => 0x3F659974#32
  | 118 => 0xBF7DCF55#32
  | 119 => 0x3F7B14BE#32
  | 120 => 0xBF5DB3D7#32
  | 121 => 0x3F28CAE3#32
  | 122 => 0xBEC3EF15#32
  | 123 => 0x3D85F213#32
  | 124 => 0x3E8483EE#32
  | 125 => 0xBF0E39DA#32
  | 126 => 0x3F4B1934#32
  | 127 => 0xBF726A03#32
  | _ => 0#32

noncomputable abbrev lit0t0_291 (i : Nat) : BitVec 32 := match i % 128 with
  | 0 => 0x3F800000#32
  | 1 => 0xBF726A03#32
  | 2 => 0x3F4B1934#32
  | 3 => 0xBF0E39DA#32
  | 4 => 0x3E8483EE#32
  | 5 => 0x3D85F213#32
  | 6 => 0xBEC3EF15#32
  | 7 => 0x3F28CAE3#32
  | 8 => 0xBF5DB3D7#32
  | 9 => 0x3F7B14BE#32
  | 10 => 0xBF7DCF55#32
  | 11 => 0x3F659974#32
  | 12 => 0xBF3504F3#32
  | 13 => 0x3EE273AA#32
  | 14 => 0xBE05A8A8#32
  | 15 => 0xBE47C5C2#32
  | 16 => 0x3F000000#32
  | 17 => 0xBF407893#32
  | 18 => 0x3F6C835E#32
  | 19 => 0xBF7F73AF#32
  | 20 => 0x3F7746EA#32
  | 21 => 0xBF54DB31#32
  | 22 => 0x3F1BD7CA#32
  | 23 => 0xBEA493B7#32
  | 24 => 0xA553C9CA#32
  | 25 => 0x3EA493B7#32
  | 26 => 0xBF1BD7CA#32
  | 27 => 0x3F54DB31#32
  | 28 => 0xBF7746EA#32
  | 29 => 0x3F7F73AF#32
  | 30 => 0xBF6C835E#32
  | 31 => 0x3F407893#32
  | 32 => 0xBF000000#32
  | 33 => 0x3E47C5C2#32
  | 34 => 0x3E05A8A8#32
  | 35 => 0xBEE273AA#32
  | 36 => 0x3F3504F3#32
  | 37 => 0xBF659974#32
  | 38 => 0x3F7DCF55#32
  | 39 => 0xBF7B14BE#32
  | 40 => 0x3F5DB3D7#32
  | 41 => 0xBF28CAE3#32
  | 42 => 0x3EC3EF15#32
  | 43 => 0xBD85F213#32
  | 44 => 0xBE8483EE#32
  | 45 => 0x3F0E39DA#32
  | 46 => 0xBF4B1934#32
  | 47 => 0x3F726A03#32
  | 48 => 0xBF800000#32
  | 49 => 0x3F726A03#32
  | 50 => 0xBF4B1934#32
  | 51 => 0x3F0E39DA#32
  | 52 => 0xBE8483EE#32
  | 53 => 0xBD85F213#32
  | 54 => 0x3EC3EF15#32
  | 55 => 0xBF28CAE3#32
  | 56 => 0x3F5DB3D7#32
  | 57 => 0xBF7B14BE#32
  | 58 => 0x3F7DCF55#32
  | 59 => 0xBF659974#32
  | 60 => 0x3F3504F3#32
  | 61 => 0xBEE273AA#32
  | 62 => 0x3E05A8A8#32
  | 63 => 0x3E47C5C2#32
  | 64 => 0xBF000000#32
  | 65 => 0x3F407893#32
  | 66 => 0xBF6C835E#32
  | 67 => 0x3F7F73AF#32
  | 68 => 0xBF7746EA#32
  | 69 => 0x3F54DB31#32
  | 70 => 0xBF1BD7CA#32
  | 71 => 0x3EA493B7#32
  | 72 => 0x248D3132#32
  | 73 => 0xBEA493B7#32
  | 74 => 0x3F1BD7CA#32
  | 75 => 0xBF54DB31#32
  | 76 => 0x3F7746EA#32
  | 77 => 0xBF7F73AF#32
  | 78 => 0x3F6C835E#32
  | 79 => 0xBF407893#32
  | 80 => 0x3F000000#32
  | 81 => 0xBE47C5C2#32
  | 82 => 0xBE05A8A8#32
  | 83 => 0x3EE273AA#32
  | 84 => 0xBF3504F3#32
  | 85 => 0x3F659974#32
  | 86 => 0xBF7DCF55#32
  | 87 => 0x3F7B14BE#32
  | 88 => 0xBF5DB3D7#32
  | 89 => 0x3F28CAE3#32
  | 90 => 0xBEC3EF15#32
  | 91 => 0x3D85F213#32
  | 92 => 0x3E8483EE#32
  | 93 => 0xBF0E39DA#32
  | 94 => 0x3F4B1934#32
  | 95 => 0xBF726A03#32
  | 96 => 0x3F800000#32
  | 97 => 0xBF726A03#32
  | 98 => 0x3F4B1934#32
  | 99 => 0xBF0E39DA#32
  | 100 => 0x3E8483EE#32
  | 101 => 0x3D85F213#32
  | 102 => 0xBEC3EF15#32
  | 103 => 0x3F28CAE3#32
  | 104 => 0xBF5DB3D7#32
  | 105 => 0x3F7B14BE#32
  | 106 => 0xBF7DCF55#32
  | 107 => 0x3F659974#32
  | 108 => 0xBF3504F3#32
  | 109 => 0x3EE273AA#32
  | 110 => 0xBE05A8A8#32
  | 111 => 0xBE47C5C2#32
  | 112 => 0x3F000000#32
  | 113 => 0xBF407893#32
  | 114 => 0x3F6C835E#32
  | 115 => 0xBF7F73AF#32
  | 116 => 0x3F7746EA#32
  | 117 => 0xBF54DB31#32
  | 118 => 0x3F1BD7CA#32
  | 119 => 0xBEA493B7#32
  | 120 => 0xA553C9CA#32
  | 121 => 0x3EA493B7#32
  | 122 => 0xBF1BD7CA#32
  | 123 => 0x3F54DB31#32
  | 124 => 0xBF7746EA#32
  | 125 => 0x3F7F73AF#32
  | 126 => 0xBF6C835E#32
  | 127 => 0x3F407893#32
  | _ => 0#32

noncomputable abbrev lit0t0_292 (i : Nat) : BitVec 32 := match i % 128 with
  | 0 => 0xBF000000#32
  | 1 => 0x3E47C5C2#32
  | 2 => 0x3E05A8A8#32
  | 3 => 0xBEE273AA#32
  | 4 => 0x3F3504F3#32
  | 5 => 0xBF659974#32
  | 6 => 0x3F7DCF55#32
  | 7 => 0xBF7B14BE#32
  | 8 => 0x3F5DB3D7#32
  | 9 => 0xBF28CAE3#32
  | 10 => 0x3EC3EF15#32
  | 11 => 0xBD85F213#32
  | 12 => 0xBE8483EE#32
  | 13 => 0x3F0E39DA#32
  | 14 => 0xBF4B1934#32
  | 15 => 0x3F726A03#32
  | 16 => 0xBF800000#32
  | 17 => 0x3F726A03#32
  | 18 => 0xBF4B1934#32
  | 19 => 0x3F0E39DA#32
  | 20 => 0xBE8483EE#32
  | 21 => 0xBD85F213#32
  | 22 => 0x3EC3EF15#32
  | 23 => 0xBF28CAE3#32
  | 24 => 0x3F5DB3D7#32
  | 25 => 0xBF7B14BE#32
  | 26 => 0x3F7DCF55#32
  | 27 => 0xBF659974#32
  | 28 => 0x3F3504F3#32
  | 29 => 0xBEE273AA#32
  | 30 => 0x3E05A8A8#32
  | 31 => 0x3E47C5C2#32
  | 32 => 0xBF000000#32
  | 33 => 0x3F407893#32
  | 34 => 0xBF6C835E#32
  | 35 => 0x3F7F73AF#32
  | 36 => 0xBF7746EA#32
  | 37 => 0x3F54DB31#32
  | 38 => 0xBF1BD7CA#32
  | 39 => 0x3EA493B7#32
  | 40 => 0x248D3132#32
  | 41 => 0xBEA493B7#32
  | 42 => 0x3F1BD7CA#32
  | 43 => 0xBF54DB31#32
  | 44 => 0x3F7746EA#32
  | 45 => 0xBF7F73AF#32
  | 46 => 0x3F6C835E#32
  | 47 => 0xBF407893#32
  | 48 => 0x3F000000#32
  | 49 => 0xBE47C5C2#32
  | 50 => 0xBE05A8A8#32
  | 51 => 0x3EE273AA#32
  | 52 => 0xBF3504F3#32
  | 53 => 0x3F659974#32
  | 54 => 0xBF7DCF55#32
  | 55 => 0x3F7B14BE#32
  | 56 => 0xBF5DB3D7#32
  | 57 => 0x3F28CAE3#32
  | 58 => 0xBEC3EF15#32
  | 59 => 0x3D85F213#32
  | 60 => 0x3E8483EE#32
  | 61 => 0xBF0E39DA#32
  | 62 => 0x3F4B1934#32
  | 63 => 0xBF726A03#32
  | 64 => 0x3F800000#32
  | 65 => 0xBF7426CB#32
  | 66 => 0x3F51B3F3#32
  | 67 => 0xBF1BD7CA#32
  | 68 => 0x3EAF1D44#32
  | 69 => 0xBD32AA3E#32
  | 70 => 0xBE8483EE#32
  | 71 => 0x3F098C78#32
  | 72 => 0xBF441B7D#32
  | 73 => 0x3F6C835E#32
  | 74 => 0xBF7F069E#32
  | 75 => 0x3F79EE89#32
  | 76 => 0xBF5DB3D7#32
  | 77 => 0x3F2CF37B#32
  | 78 => 0xBED8616C#32
  | 79 => 0x3E05A8A8#32
  | 80 => 0x3E31D0D4#32
  | 81 => 0xBEEC6A50#32
  | 82 => 0x3F3504F3#32
  | 83 => 0xBF631324#32
  | 84 => 0x3F7C1C5C#32
  | 85 => 0xBF7DCF55#32
  | 86 => 0x3F6803CA#32
  | 87 => 0xBF3CBE35#32
  | 88 => 0x3F000000#32
  | 89 => 0xBE5DA259#32
  | 90 => 0xBDB27EB6#32
  | 91 => 0x3EC3EF15#32
  | 92 => 0xBF248DBB#32
  | 93 => 0x3F57E880#32
  | 94 => 0xBF7746EA#32
  | 95 => 0x3F7FC1A0#32
  | 96 => 0xBF708FB2#32
  | 97 => 0x3F4B1934#32
  | 98 => 0xBF12D5E8#32
  | 99 => 0x3E99F61C#32
  | 100 => 0x248D3132#32
  | 101 => 0xBE99F61C#32
  | 102 => 0x3F12D5E8#32
  | 103 => 0xBF4B1934#32
  | 104 => 0x3F708FB2#32
  | 105 => 0xBF7FC1A0#32
  | 106 => 0x3F7746EA#32
  | 107 => 0xBF57E880#32
  | 108 => 0x3F248DBB#32
  | 109 => 0xBEC3EF15#32
  | 110 => 0x3DB27EB6#32
  | 111 => 0x3E5DA259#32
  | 112 => 0xBF000000#32
  | 113 => 0x3F3CBE35#32
  | 114 => 0xBF6803CA#32
  | 115 => 0x3F7DCF55#32
  | 116 => 0xBF7C1C5C#32
  | 117 => 0x3F631324#32
  | 118 => 0xBF3504F3#32
  | 119 => 0x3EEC6A50#32
  | 120 => 0xBE31D0D4#32
  | 121 => 0xBE05A8A8#32
  | 122 => 0x3ED8616C#32
  | 123 => 0xBF2CF37B#32
  | 124 => 0x3F5DB3D7#32
  | 125 => 0xBF79EE89#32
  | 126 => 0x3F7F069E#32
  | 127 => 0xBF6C835E#32
  | _ => 0#32

noncomputable abbrev lit0t0_293 (i : Nat) : BitVec 32 := match i % 128 with
  | 0 => 0x3F441B7D#32
  | 1 => 0xBF098C78#32
  | 2 => 0x3E8483EE#32
  | 3 => 0x3D32AA3E#32
  | 4 => 0xBEAF1D44#32
  | 5 => 0x3F1BD7CA#32
  | 6 => 0xBF51B3F3#32
  | 7 => 0x3F7426CB#32
  | 8 => 0xBF800000#32
  | 9 => 0x3F7426CB#32
  | 10 => 0xBF51B3F3#32
  | 11 => 0x3F1BD7CA#32
  | 12 => 0xBEAF1D44#32
  | 13 => 0x3D32AA3E#32
  | 14 => 0x3E8483EE#32
  | 15 => 0xBF098C78#32
  | 16 => 0x3F441B7D#32
  | 17 => 0xBF6C835E#32
  | 18 => 0x3F7F069E#32
  | 19 => 0xBF79EE89#32
  | 20 => 0x3F5DB3D7#32
  | 21 => 0xBF2CF37B#32
  | 22 => 0x3ED8616C#32
  | 23 => 0xBE05A8A8#32
  | 24 => 0xBE31D0D4#32
  | 25 => 0x3EEC6A50#32
  | 26 => 0xBF3504F3#32
  | 27 => 0x3F631324#32
  | 28 => 0xBF7C1C5C#32
  | 29 => 0x3F7DCF55#32
  | 30 => 0xBF6803CA#32
  | 31 => 0x3F3CBE35#32
  | 32 => 0xBF000000#32
  | 33 => 0x3E5DA259#32
  | 34 => 0x3DB27EB6#32
  | 35 => 0xBEC3EF15#32
  | 36 => 0x3F248DBB#32
  | 37 => 0xBF57E880#32
  | 38 => 0x3F7746EA#32
  | 39 => 0xBF7FC1A0#32
  | 40 => 0x3F708FB2#32
  | 41 => 0xBF4B1934#32
  | 42 => 0x3F12D5E8#32
  | 43 => 0xBE99F61C#32
  | 44 => 0xA553C9CA#32
  | 45 => 0x3E99F61C#32
  | 46 => 0xBF12D5E8#32
  | 47 => 0x3F4B1934#32
  | 48 => 0xBF708FB2#32
  | 49 => 0x3F7FC1A0#32
  | 50 => 0xBF7746EA#32
  | 51 => 0x3F57E880#32
  | 52 => 0xBF248DBB#32
  | 53 => 0x3EC3EF15#32
  | 54 => 0xBDB27EB6#32
  | 55 => 0xBE5DA259#32
  | 56 => 0x3F000000#32
  | 57 => 0xBF3CBE35#32
  | 58 => 0x3F6803CA#32
  | 59 => 0xBF7DCF55#32
  | 60 => 0x3F7C1C5C#32
  | 61 => 0xBF631324#32
  | 62 => 0x3F3504F3#32
  | 63 => 0xBEEC6A50#32
  | 64 => 0x3E31D0D4#32
  | 65 => 0x3E05A8A8#32
  | 66 => 0xBED8616C#32
  | 67 => 0x3F2CF37B#32
  | 68 => 0xBF5DB3D7#32
  | 69 => 0x3F79EE89#32
  | 70 => 0xBF7F069E#32
  | 71 => 0x3F6C835E#32
  | 72 => 0xBF441B7D#32
  | 73 => 0x3F098C78#32
  | 74 => 0xBE8483EE#32
  | 75 => 0xBD32AA3E#32
  | 76 => 0x3EAF1D44#32
  | 77 => 0xBF1BD7CA#32
  | 78 => 0x3F51B3F3#32
  | 79 => 0xBF7426CB#32
  | 80 => 0x3F800000#32
  | 81 => 0xBF7426CB#32
  | 82 => 0x3F51B3F3#32
  | 83 => 0xBF1BD7CA#32
  | 84 => 0x3EAF1D44#32
  | 85 => 0xBD32AA3E#32
  | 86 => 0xBE8483EE#32
  | 87 => 0x3F098C78#32
  | 88 => 0xBF441B7D#32
  | 89 => 0x3F6C835E#32
  | 90 => 0xBF7F069E#32
  | 91 => 0x3F79EE89#32
  | 92 => 0xBF5DB3D7#32
  | 93 => 0x3F2CF37B#32
  | 94 => 0xBED8616C#32
  | 95 => 0x3E05A8A8#32
  | 96 => 0x3E31D0D4#32
  | 97 => 0xBEEC6A50#32
  | 98 => 0x3F3504F3#32
  | 99 => 0xBF631324#32
  | 100 => 0x3F7C1C5C#32
  | 101 => 0xBF7DCF55#32
  | 102 => 0x3F6803CA#32
  | 103 => 0xBF3CBE35#32
  | 104 => 0x3F000000#32
  | 105 => 0xBE5DA259#32
  | 106 => 0xBDB27EB6#32
  | 107 => 0x3EC3EF15#32
  | 108 => 0xBF248DBB#32
  | 109 => 0x3F57E880#32
  | 110 => 0xBF7746EA#32
  | 111 => 0x3F7FC1A0#32
  | 112 => 0xBF708FB2#32
  | 113 => 0x3F4B1934#32
  | 114 => 0xBF12D5E8#32
  | 115 => 0x3E99F61C#32
  | 116 => 0x248D3132#32
  | 117 => 0xBE99F61C#32
  | 118 => 0x3F12D5E8#32
  | 119 => 0xBF4B1934#32
  | 120 => 0x3F708FB2#32
  | 121 => 0xBF7FC1A0#32
  | 122 => 0x3F7746EA#32
  | 123 => 0xBF57E880#32
  | 124 => 0x3F248DBB#32
  | 125 => 0xBEC3EF15#32
  | 126 => 0x3DB27EB6#32
  | 127 => 0x3E5DA259#32
  | _ => 0#32

noncomputable abbrev lit0t0_294 (i : Nat) : BitVec 32 := match i % 128 with
  | 0 => 0xBF000000#32
  | 1 => 0x3F3CBE35#32
  | 2 => 0xBF6803CA#32
  | 3 => 0x3F7DCF55#32
  | 4 => 0xBF7C1C5C#32
  | 5 => 0x3F631324#32
  | 6 => 0xBF3504F3#32
  | 7 => 0x3EEC6A50#32
  | 8 => 0xBE31D0D4#32
  | 9 => 0xBE05A8A8#32
  | 10 => 0x3ED8616C#32
  | 11 => 0xBF2CF37B#32
  | 12 => 0x3F5DB3D7#32
  | 13 => 0xBF79EE89#32
  | 14 => 0x3F7F069E#32
  | 15 => 0xBF6C835E#32
  | 16 => 0x3F441B7D#32
  | 17 => 0xBF098C78#32
  | 18 => 0x3E8483EE#32
  | 19 => 0x3D32AA3E#32
  | 20 => 0xBEAF1D44#32
  | 21 => 0x3F1BD7CA#32
  | 22 => 0xBF51B3F3#32
  | 23 => 0x3F7426CB#32
  | 24 => 0xBF800000#32
  | 25 => 0x3F7426CB#32
  | 26 => 0xBF51B3F3#32
  | 27 => 0x3F1BD7CA#32
  | 28 => 0xBEAF1D44#32
  | 29 => 0x3D32AA3E#32
  | 30 => 0x3E8483EE#32
  | 31 => 0xBF098C78#32
  | 32 => 0x3F441B7D#32
  | 33 => 0xBF6C835E#32
  | 34 => 0x3F7F069E#32
  | 35 => 0xBF79EE89#32
  | 36 => 0x3F5DB3D7#32
  | 37 => 0xBF2CF37B#32
  | 38 => 0x3ED8616C#32
  | 39 => 0xBE05A8A8#32
  | 40 => 0xBE31D0D4#32
  | 41 => 0x3EEC6A50#32
  | 42 => 0xBF3504F3#32
  | 43 => 0x3F631324#32
  | 44 => 0xBF7C1C5C#32
  | 45 => 0x3F7DCF55#32
  | 46 => 0xBF6803CA#32
  | 47 => 0x3F3CBE35#32
  | 48 => 0xBF000000#32
  | 49 => 0x3E5DA259#32
  | 50 => 0x3DB27EB6#32
  | 51 => 0xBEC3EF15#32
  | 52 => 0x3F248DBB#32
  | 53 => 0xBF57E880#32
  | 54 => 0x3F7746EA#32
  | 55 => 0xBF7FC1A0#32
  | 56 => 0x3F708FB2#32
  | 57 => 0xBF4B1934#32
  | 58 => 0x3F12D5E8#32
  | 59 => 0xBE99F61C#32
  | 60 => 0xA553C9CA#32
  | 61 => 0x3E99F61C#32
  | 62 => 0xBF12D5E8#32
  | 63 => 0x3F4B1934#32
  | 64 => 0xBF708FB2#32
  | 65 => 0x3F7FC1A0#32
  | 66 => 0xBF7746EA#32
  | 67 => 0x3F57E880#32
  | 68 => 0xBF248DBB#32
  | 69 => 0x3EC3EF15#32
  | 70 => 0xBDB27EB6#32
  | 71 => 0xBE5DA259#32
  | 72 => 0x3F000000#32
  | 73 => 0xBF3CBE35#32
  | 74 => 0x3F6803CA#32
  | 75 => 0xBF7DCF55#32
  | 76 => 0x3F7C1C5C#32
  | 77 => 0xBF631324#32
  | 78 => 0x3F3504F3#32
  | 79 => 0xBEEC6A50#32
  | 80 => 0x3E31D0D4#32
  | 81 => 0x3E05A8A8#32
  | 82 => 0xBED8616C#32
  | 83 => 0x3F2CF37B#32
  | 84 => 0xBF5DB3D7#32
  | 85 => 0x3F79EE89#32
  | 86 => 0xBF7F069E#32
  | 87 => 0x3F6C835E#32
  | 88 => 0xBF441B7D#32
  | 89 => 0x3F098C78#32
  | 90 => 0xBE8483EE#32
  | 91 => 0xBD32AA3E#32
  | 92 => 0x3EAF1D44#32
  | 93 => 0xBF1BD7CA#32
  | 94 => 0x3F51B3F3#32
  | 95 => 0xBF7426CB#32
  | 96 => 0x3F800000#32
  | 97 => 0xBF75C5D4#32
  | 98 => 0x3F57E880#32
  | 99 => 0xBF28CAE3#32
  | 100 => 0x3ED8616C#32
  | 101 => 0xBE1BC63C#32
  | 102 => 0xBE05A8A8#32
  | 103 => 0x3ECE34D0#32
  | 104 => 0xBF248DBB#32
  | 105 => 0x3F54DB31#32
  | 106 => 0xBF7426CB#32
  | 107 => 0x3F7FF067#32
  | 108 => 0xBF7746EA#32
  | 109 => 0x3F5ADB81#32
  | 110 => 0xBF2CF37B#32
  | 111 => 0x3EE273AA#32
  | 112 => 0xBE31D0D4#32
  | 113 => 0xBDDEF599#32
  | 114 => 0x3EC3EF15#32
  | 115 => 0xBF203C85#32
  | 116 => 0x3F51B3F3#32
  | 117 => 0xBF726A03#32
  | 118 => 0x3F7FC1A0#32
  | 119 => 0xBF78A9E0#32
  | 120 => 0x3F5DB3D7#32
  | 121 => 0xBF310700#32
  | 122 => 0x3EEC6A50#32
  | 123 => 0xBE47C5C2#32
  | 124 => 0xBDB27EB6#32
  | 125 => 0x3EB9917B#32
  | 126 => 0xBF1BD7CA#32
  | 127 => 0x3F4E7327#32
  | _ => 0#32

noncomputable abbrev lit0t0_295 (i : Nat) : BitVec 32 := match i % 128 with
  | 0 => 0xBF708FB2#32
  | 1 => 0x3F7F73AF#32
  | 2 => 0xBF79EE89#32
  | 3 => 0x3F60712A#32
  | 4 => 0xBF3504F3#32
  | 5 => 0x3EF64429#32
  | 6 => 0xBE5DA259#32
  | 7 => 0xBD85F213#32
  | 8 => 0x3EAF1D44#32
  | 9 => 0xBF176012#32
  | 10 => 0x3F4B1934#32
  | 11 => 0xBF6E9811#32
  | 12 => 0x3F7F069E#32
  | 13 => 0xBF7B14BE#32
  | 14 => 0x3F631324#32
  | 15 => 0xBF38ECD8#32
  | 16 => 0x3F000000#32
  | 17 => 0xBE7363EE#32
  | 18 => 0xBD32AA3E#32
  | 19 => 0x3EA493B7#32
  | 20 => 0xBF12D5E8#32
  | 21 => 0x3F47A682#32
  | 22 => 0xBF6C835E#32
  | 23 => 0x3F7E7A7A#32
  | 24 => 0xBF7C1C5C#32
  | 25 => 0x3F659974#32
  | 26 => 0xBF3CBE35#32
  | 27 => 0x3F04CE53#32
  | 28 => 0xBE8483EE#32
  | 29 => 0xBCB2B521#32
  | 30 => 0x3E99F61C#32
  | 31 => 0xBF0E39DA#32
  | 32 => 0x3F441B7D#32
  | 33 => 0xBF6A51DA#32
  | 34 => 0x3F7DCF55#32
  | 35 => 0xBF7D0543#32
  | 36 => 0x3F6803CA#32
  | 37 => 0xBF407893#32
  | 38 => 0x3F098C78#32
  | 39 => 0xBE8F45C0#32
  | 40 => 0xA553C9CA#32
  | 41 => 0x3E8F45C0#32
  | 42 => 0xBF098C78#32
  | 43 => 0x3F407893#32
  | 44 => 0xBF6803CA#32
  | 45 => 0x3F7D0543#32
  | 46 => 0xBF7DCF55#32
  | 47 => 0x3F6A51DA#32
  | 48 => 0xBF441B7D#32
  | 49 => 0x3F0E39DA#32
  | 50 => 0xBE99F61C#32
  | 51 => 0x3CB2B521#32
  | 52 => 0x3E8483EE#32
  | 53 => 0xBF04CE53#32
  | 54 => 0x3F3CBE35#32
  | 55 => 0xBF659974#32
  | 56 => 0x3F7C1C5C#32
  | 57 => 0xBF7E7A7A#32
  | 58 => 0x3F6C835E#32
  | 59 => 0xBF47A682#32
  | 60 => 0x3F12D5E8#32
  | 61 => 0xBEA493B7#32
  | 62 => 0x3D32AA3E#32
  | 63 => 0x3E7363EE#32
  | 64 => 0xBF000000#32
  | 65 => 0x3F38ECD8#32
  | 66 => 0xBF631324#32
  | 67 => 0x3F7B14BE#32
  | 68 => 0xBF7F069E#32
  | 69 => 0x3F6E9811#32
  | 70 => 0xBF4B1934#32
  | 71 => 0x3F176012#32
  | 72 => 0xBEAF1D44#32
  | 73 => 0x3D85F213#32
  | 74 => 0x3E5DA259#32
  | 75 => 0xBEF64429#32
  | 76 => 0x3F3504F3#32
  | 77 => 0xBF60712A#32
  | 78 => 0x3F79EE89#32
  | 79 => 0xBF7F73AF#32
  | 80 => 0x3F708FB2#32
  | 81 => 0xBF4E7327#32
  | 82 => 0x3F1BD7CA#32
  | 83 => 0xBEB9917B#32
  | 84 => 0x3DB27EB6#32
  | 85 => 0x3E47C5C2#32
  | 86 => 0xBEEC6A50#32
  | 87 => 0x3F310700#32
  | 88 => 0xBF5DB3D7#32
  | 89 => 0x3F78A9E0#32
  | 90 => 0xBF7FC1A0#32
  | 91 => 0x3F726A03#32
  | 92 => 0xBF51B3F3#32
  | 93 => 0x3F203C85#32
  | 94 => 0xBEC3EF15#32
  | 95 => 0x3DDEF599#32
  | 96 => 0x3E31D0D4#32
  | 97 => 0xBEE273AA#32
  | 98 => 0x3F2CF37B#32
  | 99 => 0xBF5ADB81#32
  | 100 => 0x3F7746EA#32
  | 101 => 0xBF7FF067#32
  | 102 => 0x3F7426CB#32
  | 103 => 0xBF54DB31#32
  | 104 => 0x3F248DBB#32
  | 105 => 0xBECE34D0#32
  | 106 => 0x3E05A8A8#32
  | 107 => 0x3E1BC63C#32
  | 108 => 0xBED8616C#32
  | 109 => 0x3F28CAE3#32
  | 110 => 0xBF57E880#32
  | 111 => 0x3F75C5D4#32
  | 112 => 0xBF800000#32
  | 113 => 0x3F75C5D4#32
  | 114 => 0xBF57E880#32
  | 115 => 0x3F28CAE3#32
  | 116 => 0xBED8616C#32
  | 117 => 0x3E1BC63C#32
  | 118 => 0x3E05A8A8#32
  | 119 => 0xBECE34D0#32
  | 120 => 0x3F248DBB#32
  | 121 => 0xBF54DB31#32
  | 122 => 0x3F7426CB#32
  | 123 => 0xBF7FF067#32
  | 124 => 0x3F7746EA#32
  | 125 => 0xBF5ADB81#32
  | 126 => 0x3F2CF37B#32
  | 127 => 0xBEE273AA#32
  | _ => 0#32

noncomputable abbrev lit0t0_296 (i : Nat) : BitVec 32 := match i % 128 with
  | 0 => 0x3E31D0D4#32
  | 1 => 0x3DDEF599#32
  | 2 => 0xBEC3EF15#32
  | 3 => 0x3F203C85#32
  | 4 => 0xBF51B3F3#32
  | 5 => 0x3F726A03#32
  | 6 => 0xBF7FC1A0#32
  | 7 => 0x3F78A9E0#32
  | 8 => 0xBF5DB3D7#32
  | 9 => 0x3F310700#32
  | 10 => 0xBEEC6A50#32
  | 11 => 0x3E47C5C2#32
  | 12 => 0x3DB27EB6#32
  | 13 => 0xBEB9917B#32
  | 14 => 0x3F1BD7CA#32
  | 15 => 0xBF4E7327#32
  | 16 => 0x3F708FB2#32
  | 17 => 0xBF7F73AF#32
  | 18 => 0x3F79EE89#32
  | 19 => 0xBF60712A#32
  | 20 => 0x3F3504F3#32
  | 21 => 0xBEF64429#32
  | 22 => 0x3E5DA259#32
  | 23 => 0x3D85F213#32
  | 24 => 0xBEAF1D44#32
  | 25 => 0x3F176012#32
  | 26 => 0xBF4B1934#32
  | 27 => 0x3F6E9811#32
  | 28 => 0xBF7F069E#32
  | 29 => 0x3F7B14BE#32
  | 30 => 0xBF631324#32
  | 31 => 0x3F38ECD8#32
  | 32 => 0xBF000000#32
  | 33 => 0x3E7363EE#32
  | 34 => 0x3D32AA3E#32
  | 35 => 0xBEA493B7#32
  | 36 => 0x3F12D5E8#32
  | 37 => 0xBF47A682#32
  | 38 => 0x3F6C835E#32
  | 39 => 0xBF7E7A7A#32
  | 40 => 0x3F7C1C5C#32
  | 41 => 0xBF659974#32
  | 42 => 0x3F3CBE35#32
  | 43 => 0xBF04CE53#32
  | 44 => 0x3E8483EE#32
  | 45 => 0x3CB2B521#32
  | 46 => 0xBE99F61C#32
  | 47 => 0x3F0E39DA#32
  | 48 => 0xBF441B7D#32
  | 49 => 0x3F6A51DA#32
  | 50 => 0xBF7DCF55#32
  | 51 => 0x3F7D0543#32
  | 52 => 0xBF6803CA#32
  | 53 => 0x3F407893#32
  | 54 => 0xBF098C78#32
  | 55 => 0x3E8F45C0#32
  | 56 => 0x248D3132#32
  | 57 => 0xBE8F45C0#32
  | 58 => 0x3F098C78#32
  | 59 => 0xBF407893#32
  | 60 => 0x3F6803CA#32
  | 61 => 0xBF7D0543#32
  | 62 => 0x3F7DCF55#32
  | 63 => 0xBF6A51DA#32
  | 64 => 0x3F441B7D#32
  | 65 => 0xBF0E39DA#32
  | 66 => 0x3E99F61C#32
  | 67 => 0xBCB2B521#32
  | 68 => 0xBE8483EE#32
  | 69 => 0x3F04CE53#32
  | 70 => 0xBF3CBE35#32
  | 71 => 0x3F659974#32
  | 72 => 0xBF7C1C5C#32
  | 73 => 0x3F7E7A7A#32
  | 74 => 0xBF6C835E#32
  | 75 => 0x3F47A682#32
  | 76 => 0xBF12D5E8#32
  | 77 => 0x3EA493B7#32
  | 78 => 0xBD32AA3E#32
  | 79 => 0xBE7363EE#32
  | 80 => 0x3F000000#32
  | 81 => 0xBF38ECD8#32
  | 82 => 0x3F631324#32
  | 83 => 0xBF7B14BE#32
  | 84 => 0x3F7F069E#32
  | 85 => 0xBF6E9811#32
  | 86 => 0x3F4B1934#32
  | 87 => 0xBF176012#32
  | 88 => 0x3EAF1D44#32
  | 89 => 0xBD85F213#32
  | 90 => 0xBE5DA259#32
  | 91 => 0x3EF64429#32
  | 92 => 0xBF3504F3#32
  | 93 => 0x3F60712A#32
  | 94 => 0xBF79EE89#32
  | 95 => 0x3F7F73AF#32
  | 96 => 0xBF708FB2#32
  | 97 => 0x3F4E7327#32
  | 98 => 0xBF1BD7CA#32
  | 99 => 0x3EB9917B#32
  | 100 => 0xBDB27EB6#32
  | 101 => 0xBE47C5C2#32
  | 102 => 0x3EEC6A50#32
  | 103 => 0xBF310700#32
  | 104 => 0x3F5DB3D7#32
  | 105 => 0xBF78A9E0#32
  | 106 => 0x3F7FC1A0#32
  | 107 => 0xBF726A03#32
  | 108 => 0x3F51B3F3#32
  | 109 => 0xBF203C85#32
  | 110 => 0x3EC3EF15#32
  | 111 => 0xBDDEF599#32
  | 112 => 0xBE31D0D4#32
  | 113 => 0x3EE273AA#32
  | 114 => 0xBF2CF37B#32
  | 115 => 0x3F5ADB81#32
  | 116 => 0xBF7746EA#32
  | 117 => 0x3F7FF067#32
  | 118 => 0xBF7426CB#32
  | 119 => 0x3F54DB31#32
  | 120 => 0xBF248DBB#32
  | 121 => 0x3ECE34D0#32
  | 122 => 0xBE05A8A8#32
  | 123 => 0xBE1BC63C#32
  | 124 => 0x3ED8616C#32
  | 125 => 0xBF28CAE3#32
  | 126 => 0x3F57E880#32
  | 127 => 0xBF75C5D4#32
  | _ => 0#32

noncomputable abbrev lit0t0_297 (i : Nat) : BitVec 32 := match i % 128 with
  | 0 => 0x3F800000#32
  | 1 => 0xBF7746EA#32
  | 2 => 0x3F5DB3D7#32
  | 3 => 0xBF3504F3#32
  | 4 => 0x3F000000#32
  | 5 => 0xBE8483EE#32
  | 6 => 0xA553C9CA#32
  | 7 => 0x3E8483EE#32
  | 8 => 0xBF000000#32
  | 9 => 0x3F3504F3#32
  | 10 => 0xBF5DB3D7#32
  | 11 => 0x3F7746EA#32
  | 12 => 0xBF800000#32
  | 13 => 0x3F7746EA#32
  | 14 => 0xBF5DB3D7#32
  | 15 => 0x3F3504F3#32
  | 16 => 0xBF000000#32
  | 17 => 0x3E8483EE#32
  | 18 => 0x248D3132#32
  | 19 => 0xBE8483EE#32
  | 20 => 0x3F000000#32
  | 21 => 0xBF3504F3#32
  | 22 => 0x3F5DB3D7#32
  | 23 => 0xBF7746EA#32
  | 24 => 0x3F800000#32
  | 25 => 0xBF7746EA#32
  | 26 => 0x3F5DB3D7#32
  | 27 => 0xBF3504F3#32
  | 28 => 0x3F000000#32
  | 29 => 0xBE8483EE#32
  | 30 => 0xA553C9CA#32
  | 31 => 0x3E8483EE#32
  | 32 => 0xBF000000#32
  | 33 => 0x3F3504F3#32
  | 34 => 0xBF5DB3D7#32
  | 35 => 0x3F7746EA#32
  | 36 => 0xBF800000#32
  | 37 => 0x3F7746EA#32
  | 38 => 0xBF5DB3D7#32
  | 39 => 0x3F3504F3#32
  | 40 => 0xBF000000#32
  | 41 => 0x3E8483EE#32
  | 42 => 0x248D3132#32
  | 43 => 0xBE8483EE#32
  | 44 => 0x3F000000#32
  | 45 => 0xBF3504F3#32
  | 46 => 0x3F5DB3D7#32
  | 47 => 0xBF7746EA#32
  | 48 => 0x3F800000#32
  | 49 => 0xBF7746EA#32
  | 50 => 0x3F5DB3D7#32
  | 51 => 0xBF3504F3#32
  | 52 => 0x3F000000#32
  | 53 => 0xBE8483EE#32
  | 54 => 0xA553C9CA#32
  | 55 => 0x3E8483EE#32
  | 56 => 0xBF000000#32
  | 57 => 0x3F3504F3#32
  | 58 => 0xBF5DB3D7#32
  | 59 => 0x3F7746EA#32
  | 60 => 0xBF800000#32
  | 61 => 0x3F7746EA#32
  | 62 => 0xBF5DB3D7#32
  | 63 => 0x3F3504F3#32
  | 64 => 0xBF000000#32
  | 65 => 0x3E8483EE#32
  | 66 => 0x248D3132#32
  | 67 => 0xBE8483EE#32
  | 68 => 0x3F000000#32
  | 69 => 0xBF3504F3#32
  | 70 => 0x3F5DB3D7#32
  | 71 => 0xBF7746EA#32
  | 72 => 0x3F800000#32
  | 73 => 0xBF7746EA#32
  | 74 => 0x3F5DB3D7#32
  | 75 => 0xBF3504F3#32
  | 76 => 0x3F000000#32
  | 77 => 0xBE8483EE#32
  | 78 => 0xA553C9CA#32
  | 79 => 0x3E8483EE#32
  | 80 => 0xBF000000#32
  | 81 => 0x3F3504F3#32
  | 82 => 0xBF5DB3D7#32
  | 83 => 0x3F7746EA#32
  | 84 => 0xBF800000#32
  | 85 => 0x3F7746EA#32
  | 86 => 0xBF5DB3D7#32
  | 87 => 0x3F3504F3#32
  | 88 => 0xBF000000#32
  | 89 => 0x3E8483EE#32
  | 90 => 0x248D3132#32
  | 91 => 0xBE8483EE#32
  | 92 => 0x3F000000#32
  | 93 => 0xBF3504F3#32
  | 94 => 0x3F5DB3D7#32
  | 95 => 0xBF7746EA#32
  | 96 => 0x3F800000#32
  | 97 => 0xBF7746EA#32
  | 98 => 0x3F5DB3D7#32
  | 99 => 0xBF3504F3#32
  | 100 => 0x3F000000#32
  | 101 => 0xBE8483EE#32
  | 102 => 0xA553C9CA#32
  | 103 => 0x3E8483EE#32
  | 104 => 0xBF000000#32
  | 105 => 0x3F3504F3#32
  | 106 => 0xBF5DB3D7#32
  | 107 => 0x3F7746EA#32
  | 108 => 0xBF800000#32
  | 109 => 0x3F7746EA#32
  | 110 => 0xBF5DB3D7#32
  | 111 => 0x3F3504F3#32
  | 112 => 0xBF000000#32
  | 113 => 0x3E8483EE#32
  | 114 => 0x248D3132#32
  | 115 => 0xBE8483EE#32
  | 116 => 0x3F000000#32
  | 117 => 0xBF3504F3#32
  | 118 => 0x3F5DB3D7#32
  | 119 => 0xBF7746EA#32
  | 120 => 0x3F800000#32
  | 121 => 0xBF7746EA#32
  | 122 => 0x3F5DB3D7#32
  | 123 => 0xBF3504F3#32
  | 124 => 0x3F000000#32
  | 125 => 0xBE8483EE#32
  | 126 => 0xA553C9CA#32
  | 127 => 0x3E8483EE#32
  | _ => 0#32

noncomputable abbrev lit0t0_298 (i : Nat) : BitVec 32 := match i % 128 with
  | 0 => 0xBF000000#32
  | 1 => 0x3F3504F3#32
  | 2 => 0xBF5DB3D7#32
  | 3 => 0x3F7746EA#32
  | 4 => 0xBF800000#32
  | 5 => 0x3F7746EA#32
  | 6 => 0xBF5DB3D7#32
  | 7 => 0x3F3504F3#32
  | 8 => 0xBF000000#32
  | 9 => 0x3E8483EE#32
  | 10 => 0x248D3132#32
  | 11 => 0xBE8483EE#32
  | 12 => 0x3F000000#32
  | 13 => 0xBF3504F3#32
  | 14 => 0x3F5DB3D7#32
  | 15 => 0xBF7746EA#32
  | 16 => 0x3F800000#32
  | 17 => 0xBF7746EA#32
  | 18 => 0x3F5DB3D7#32
  | 19 => 0xBF3504F3#32
  | 20 => 0x3F000000#32
  | 21 => 0xBE8483EE#32
  | 22 => 0xA553C9CA#32
  | 23 => 0x3E8483EE#32
  | 24 => 0xBF000000#32
  | 25 => 0x3F3504F3#32
  | 26 => 0xBF5DB3D7#32
  | 27 => 0x3F7746EA#32
  | 28 => 0xBF800000#32
  | 29 => 0x3F7746EA#32
  | 30 => 0xBF5DB3D7#32
  | 31 => 0x3F3504F3#32
  | 32 => 0xBF000000#32
  | 33 => 0x3E8483EE#32
  | 34 => 0x248D3132#32
  | 35 => 0xBE8483EE#32
  | 36 => 0x3F000000#32
  | 37 => 0xBF3504F3#32
  | 38 => 0x3F5DB3D7#32
  | 39 => 0xBF7746EA#32
  | 40 => 0x3F800000#32
  | 41 => 0xBF7746EA#32
  | 42 => 0x3F5DB3D7#32
  | 43 => 0xBF3504F3#32
  | 44 => 0x3F000000#32
  | 45 => 0xBE8483EE#32
  | 46 => 0xA553C9CA#32
  | 47 => 0x3E8483EE#32
  | 48 => 0xBF000000#32
  | 49 => 0x3F3504F3#32
  | 50 => 0xBF5DB3D7#32
  | 51 => 0x3F7746EA#32
  | 52 => 0xBF800000#32
  | 53 => 0x3F7746EA#32
  | 54 => 0xBF5DB3D7#32
  | 55 => 0x3F3504F3#32
  | 56 => 0xBF000000#32
  | 57 => 0x3E8483EE#32
  | 58 => 0x248D3132#32
  | 59 => 0xBE8483EE#32
  | 60 => 0x3F000000#32
  | 61 => 0xBF3504F3#32
  | 62 => 0x3F5DB3D7#32
  | 63 => 0xBF7746EA#32
  | 64 => 0x3F800000#32
  | 65 => 0xBF7746EA#32
  | 66 => 0x3F5DB3D7#32
  | 67 => 0xBF3504F3#32
  | 68 => 0x3F000000#32
  | 69 => 0xBE8483EE#32
  | 70 => 0xA553C9CA#32
  | 71 => 0x3E8483EE#32
  | 72 => 0xBF000000#32
  | 73 => 0x3F3504F3#32
  | 74 => 0xBF5DB3D7#32
  | 75 => 0x3F7746EA#32
  | 76 => 0xBF800000#32
  | 77 => 0x3F7746EA#32
  | 78 => 0xBF5DB3D7#32
  | 79 => 0x3F3504F3#32
  | 80 => 0xBF000000#32
  | 81 => 0x3E8483EE#32
  | 82 => 0x248D3132#32
  | 83 => 0xBE8483EE#32
  | 84 => 0x3F000000#32
  | 85 => 0xBF3504F3#32
  | 86 => 0x3F5DB3D7#32
  | 87 => 0xBF7746EA#32
  | 88 => 0x3F800000#32
  | 89 => 0xBF7746EA#32
  | 90 => 0x3F5DB3D7#32
  | 91 => 0xBF3504F3#32
  | 92 => 0x3F000000#32
  | 93 => 0xBE8483EE#32
  | 94 => 0xA553C9CA#32
  | 95 => 0x3E8483EE#32
  | 96 => 0xBF000000#32
  | 97 => 0x3F3504F3#32
  | 98 => 0xBF5DB3D7#32
  | 99 => 0x3F7746EA#32
  | 100 => 0xBF800000#32
  | 101 => 0x3F7746EA#32
  | 102 => 0xBF5DB3D7#32
  | 103 => 0x3F3504F3#32
  | 104 => 0xBF000000#32
  | 105 => 0x3E8483EE#32
  | 106 => 0x248D3132#32
  | 107 => 0xBE8483EE#32
  | 108 => 0x3F000000#32
  | 109 => 0xBF3504F3#32
  | 110 => 0x3F5DB3D7#32
  | 111 => 0xBF7746EA#32
  | 112 => 0x3F800000#32
  | 113 => 0xBF7746EA#32
  | 114 => 0x3F5DB3D7#32
  | 115 => 0xBF3504F3#32
  | 116 => 0x3F000000#32
  | 117 => 0xBE8483EE#32
  | 118 => 0xA553C9CA#32
  | 119 => 0x3E8483EE#32
  | 120 => 0xBF000000#32
  | 121 => 0x3F3504F3#32
  | 122 => 0xBF5DB3D7#32
  | 123 => 0x3F7746EA#32
  | 124 => 0xBF800000#32
  | 125 => 0x3F7746EA#32
  | 126 => 0xBF5DB3D7#32
  | 127 => 0x3F3504F3#32
  | _ => 0#32

noncomputable abbrev lit0t0_299 (i : Nat) : BitVec 32 := match i % 128 with
  | 0 => 0xBF000000#32
  | 1 => 0x3E8483EE#32
  | 2 => 0x248D3132#32
  | 3 => 0xBE8483EE#32
  | 4 => 0x3F000000#32
  | 5 => 0xBF3504F3#32
  | 6 => 0x3F5DB3D7#32
  | 7 => 0xBF7746EA#32
  | 8 => 0x3F800000#32
  | 9 => 0xBF7746EA#32
  | 10 => 0x3F5DB3D7#32
  | 11 => 0xBF3504F3#32
  | 12 => 0x3F000000#32
  | 13 => 0xBE8483EE#32
  | 14 => 0xA553C9CA#32
  | 15 => 0x3E8483EE#32
  | 16 => 0xBF000000#32
  | 17 => 0x3F3504F3#32
  | 18 => 0xBF5DB3D7#32
  | 19 => 0x3F7746EA#32
  | 20 => 0xBF800000#32
  | 21 => 0x3F7746EA#32
  | 22 => 0xBF5DB3D7#32
  | 23 => 0x3F3504F3#32
  | 24 => 0xBF000000#32
  | 25 => 0x3E8483EE#32
  | 26 => 0x248D3132#32
  | 27 => 0xBE8483EE#32
  | 28 => 0x3F000000#32
  | 29 => 0xBF3504F3#32
  | 30 => 0x3F5DB3D7#32
  | 31 => 0xBF7746EA#32
  | 32 => 0x3F800000#32
  | 33 => 0xBF78A9E0#32
  | 34 => 0x3F631324#32
  | 35 => 0xBF407893#32
  | 36 => 0x3F12D5E8#32
  | 37 => 0xBEB9917B#32
  | 38 => 0x3E05A8A8#32
  | 39 => 0x3DDEF599#32
  | 40 => 0xBEAF1D44#32
  | 41 => 0x3F0E39DA#32
  | 42 => 0xBF3CBE35#32
  | 43 => 0x3F60712A#32
  | 44 => 0xBF7746EA#32
  | 45 => 0x3F7FF067#32
  | 46 => 0xBF79EE89#32
  | 47 => 0x3F659974#32
  | 48 => 0xBF441B7D#32
  | 49 => 0x3F176012#32
  | 50 => 0xBEC3EF15#32
  | 51 => 0x3E1BC63C#32
  | 52 => 0x3DB27EB6#32
  | 53 => 0xBEA493B7#32
  | 54 => 0x3F098C78#32
  | 55 => 0xBF38ECD8#32
  | 56 => 0x3F5DB3D7#32
  | 57 => 0xBF75C5D4#32
  | 58 => 0x3F7FC1A0#32
  | 59 => 0xBF7B14BE#32
  | 60 => 0x3F6803CA#32
  | 61 => 0xBF47A682#32
  | 62 => 0x3F1BD7CA#32
  | 63 => 0xBECE34D0#32
  | 64 => 0x3E31D0D4#32
  | 65 => 0x3D85F213#32
  | 66 => 0xBE99F61C#32
  | 67 => 0x3F04CE53#32
  | 68 => 0xBF3504F3#32
  | 69 => 0x3F5ADB81#32
  | 70 => 0xBF7426CB#32
  | 71 => 0x3F7F73AF#32
  | 72 => 0xBF7C1C5C#32
  | 73 => 0x3F6A51DA#32
  | 74 => 0xBF4B1934#32
  | 75 => 0x3F203C85#32
  | 76 => 0xBED8616C#32
  | 77 => 0x3E47C5C2#32
  | 78 => 0x3D32AA3E#32
  | 79 => 0xBE8F45C0#32
  | 80 => 0x3F000000#32
  | 81 => 0xBF310700#32
  | 82 => 0x3F57E880#32
  | 83 => 0xBF726A03#32
  | 84 => 0x3F7F069E#32
  | 85 => 0xBF7D0543#32
  | 86 => 0x3F6C835E#32
  | 87 => 0xBF4E7327#32
  | 88 => 0x3F248DBB#32
  | 89 => 0xBEE273AA#32
  | 90 => 0x3E5DA259#32
  | 91 => 0x3CB2B521#32
  | 92 => 0xBE8483EE#32
  | 93 => 0x3EF64429#32
  | 94 => 0xBF2CF37B#32
  | 95 => 0x3F54DB31#32
  | 96 => 0xBF708FB2#32
  | 97 => 0x3F7E7A7A#32
  | 98 => 0xBF7DCF55#32
  | 99 => 0x3F6E9811#32
  | 100 => 0xBF51B3F3#32
  | 101 => 0x3F28CAE3#32
  | 102 => 0xBEEC6A50#32
  | 103 => 0x3E7363EE#32
  | 104 => 0x248D3132#32
  | 105 => 0xBE7363EE#32
  | 106 => 0x3EEC6A50#32
  | 107 => 0xBF28CAE3#32
  | 108 => 0x3F51B3F3#32
  | 109 => 0xBF6E9811#32
  | 110 => 0x3F7DCF55#32
  | 111 => 0xBF7E7A7A#32
  | 112 => 0x3F708FB2#32
  | 113 => 0xBF54DB31#32
  | 114 => 0x3F2CF37B#32
  | 115 => 0xBEF64429#32
  | 116 => 0x3E8483EE#32
  | 117 => 0xBCB2B521#32
  | 118 => 0xBE5DA259#32
  | 119 => 0x3EE273AA#32
  | 120 => 0xBF248DBB#32
  | 121 => 0x3F4E7327#32
  | 122 => 0xBF6C835E#32
  | 123 => 0x3F7D0543#32
  | 124 => 0xBF7F069E#32
  | 125 => 0x3F726A03#32
  | 126 => 0xBF57E880#32
  | 127 => 0x3F310700#32
  | _ => 0#32

noncomputable abbrev lit0t0_300 (i : Nat) : BitVec 32 := match i % 128 with
  | 0 => 0xBF000000#32
  | 1 => 0x3E8F45C0#32
  | 2 => 0xBD32AA3E#32
  | 3 => 0xBE47C5C2#32
  | 4 => 0x3ED8616C#32
  | 5 => 0xBF203C85#32
  | 6 => 0x3F4B1934#32
  | 7 => 0xBF6A51DA#32
  | 8 => 0x3F7C1C5C#32
  | 9 => 0xBF7F73AF#32
  | 10 => 0x3F7426CB#32
  | 11 => 0xBF5ADB81#32
  | 12 => 0x3F3504F3#32
  | 13 => 0xBF04CE53#32
  | 14 => 0x3E99F61C#32
  | 15 => 0xBD85F213#32
  | 16 => 0xBE31D0D4#32
  | 17 => 0x3ECE34D0#32
  | 18 => 0xBF1BD7CA#32
  | 19 => 0x3F47A682#32
  | 20 => 0xBF6803CA#32
  | 21 => 0x3F7B14BE#32
  | 22 => 0xBF7FC1A0#32
  | 23 => 0x3F75C5D4#32
  | 24 => 0xBF5DB3D7#32
  | 25 => 0x3F38ECD8#32
  | 26 => 0xBF098C78#32
  | 27 => 0x3EA493B7#32
  | 28 => 0xBDB27EB6#32
  | 29 => 0xBE1BC63C#32
  | 30 => 0x3EC3EF15#32
  | 31 => 0xBF176012#32
  | 32 => 0x3F441B7D#32
  | 33 => 0xBF659974#32
  | 34 => 0x3F79EE89#32
  | 35 => 0xBF7FF067#32
  | 36 => 0x3F7746EA#32
  | 37 => 0xBF60712A#32
  | 38 => 0x3F3CBE35#32
  | 39 => 0xBF0E39DA#32
  | 40 => 0x3EAF1D44#32
  | 41 => 0xBDDEF599#32
  | 42 => 0xBE05A8A8#32
  | 43 => 0x3EB9917B#32
  | 44 => 0xBF12D5E8#32
  | 45 => 0x3F407893#32
  | 46 => 0xBF631324#32
  | 47 => 0x3F78A9E0#32
  | 48 => 0xBF800000#32
  | 49 => 0x3F78A9E0#32
  | 50 => 0xBF631324#32
  | 51 => 0x3F407893#32
  | 52 => 0xBF12D5E8#32
  | 53 => 0x3EB9917B#32
  | 54 => 0xBE05A8A8#32
  | 55 => 0xBDDEF599#32
  | 56 => 0x3EAF1D44#32
  | 57 => 0xBF0E39DA#32
  | 58 => 0x3F3CBE35#32
  | 59 => 0xBF60712A#32
  | 60 => 0x3F7746EA#32
  | 61 => 0xBF7FF067#32
  | 62 => 0x3F79EE89#32
  | 63 => 0xBF659974#32
  | 64 => 0x3F441B7D#32
  | 65 => 0xBF176012#32
  | 66 => 0x3EC3EF15#32
  | 67 => 0xBE1BC63C#32
  | 68 => 0xBDB27EB6#32
  | 69 => 0x3EA493B7#32
  | 70 => 0xBF098C78#32
  | 71 => 0x3F38ECD8#32
  | 72 => 0xBF5DB3D7#32
  | 73 => 0x3F75C5D4#32
  | 74 => 0xBF7FC1A0#32
  | 75 => 0x3F7B14BE#32
  | 76 => 0xBF6803CA#32
  | 77 => 0x3F47A682#32
  | 78 => 0xBF1BD7CA#32
  | 79 => 0x3ECE34D0#32
  | 80 => 0xBE31D0D4#32
  | 81 => 0xBD85F213#32
  | 82 => 0x3E99F61C#32
  | 83 => 0xBF04CE53#32
  | 84 => 0x3F3504F3#32
  | 85 => 0xBF5ADB81#32
  | 86 => 0x3F7426CB#32
  | 87 => 0xBF7F73AF#32
  | 88 => 0x3F7C1C5C#32
  | 89 => 0xBF6A51DA#32
  | 90 => 0x3F4B1934#32
  | 91 => 0xBF203C85#32
  | 92 => 0x3ED8616C#32
  | 93 => 0xBE47C5C2#32
  | 94 => 0xBD32AA3E#32
  | 95 => 0x3E8F45C0#32
  | 96 => 0xBF000000#32
  | 97 => 0x3F310700#32
  | 98 => 0xBF57E880#32
  | 99 => 0x3F726A03#32
  | 100 => 0xBF7F069E#32
  | 101 => 0x3F7D0543#32
  | 102 => 0xBF6C835E#32
  | 103 => 0x3F4E7327#32
  | 104 => 0xBF248DBB#32
  | 105 => 0x3EE273AA#32
  | 106 => 0xBE5DA259#32
  | 107 => 0xBCB2B521#32
  | 108 => 0x3E8483EE#32
  | 109 => 0xBEF64429#32
  | 110 => 0x3F2CF37B#32
  | 111 => 0xBF54DB31#32
  | 112 => 0x3F708FB2#32
  | 113 => 0xBF7E7A7A#32
  | 114 => 0x3F7DCF55#32
  | 115 => 0xBF6E9811#32
  | 116 => 0x3F51B3F3#32
  | 117 => 0xBF28CAE3#32
  | 118 => 0x3EEC6A50#32
  | 119 => 0xBE7363EE#32
  | 120 => 0xA553C9CA#32
  | 121 => 0x3E7363EE#32
  | 122 => 0xBEEC6A50#32
  | 123 => 0x3F28CAE3#32
  | 124 => 0xBF51B3F3#32
  | 125 => 0x3F6E9811#32
  | 126 => 0xBF7DCF55#32
  | 127 => 0x3F7E7A7A#32
  | _ => 0#32

noncomputable abbrev lit0t0_301 (i : Nat) : BitVec 32 := match i % 128 with
  | 0 => 0xBF708FB2#32
  | 1 => 0x3F54DB31#32
  | 2 => 0xBF2CF37B#32
  | 3 => 0x3EF64429#32
  | 4 => 0xBE8483EE#32
  | 5 => 0x3CB2B521#32
  | 6 => 0x3E5DA259#32
  | 7 => 0xBEE273AA#32
  | 8 => 0x3F248DBB#32
  | 9 => 0xBF4E7327#32
  | 10 => 0x3F6C835E#32
  | 11 => 0xBF7D0543#32
  | 12 => 0x3F7F069E#32
  | 13 => 0xBF726A03#32
  | 14 => 0x3F57E880#32
  | 15 => 0xBF310700#32
  | 16 => 0x3F000000#32
  | 17 => 0xBE8F45C0#32
  | 18 => 0x3D32AA3E#32
  | 19 => 0x3E47C5C2#32
  | 20 => 0xBED8616C#32
  | 21 => 0x3F203C85#32
  | 22 => 0xBF4B1934#32
  | 23 => 0x3F6A51DA#32
  | 24 => 0xBF7C1C5C#32
  | 25 => 0x3F7F73AF#32
  | 26 => 0xBF7426CB#32
  | 27 => 0x3F5ADB81#32
  | 28 => 0xBF3504F3#32
  | 29 => 0x3F04CE53#32
  | 30 => 0xBE99F61C#32
  | 31 => 0x3D85F213#32
  | 32 => 0x3E31D0D4#32
  | 33 => 0xBECE34D0#32
  | 34 => 0x3F1BD7CA#32
  | 35 => 0xBF47A682#32
  | 36 => 0x3F6803CA#32
  | 37 => 0xBF7B14BE#32
  | 38 => 0x3F7FC1A0#32
  | 39 => 0xBF75C5D4#32
  | 40 => 0x3F5DB3D7#32
  | 41 => 0xBF38ECD8#32
  | 42 => 0x3F098C78#32
  | 43 => 0xBEA493B7#32
  | 44 => 0x3DB27EB6#32
  | 45 => 0x3E1BC63C#32
  | 46 => 0xBEC3EF15#32
  | 47 => 0x3F176012#32
  | 48 => 0xBF441B7D#32
  | 49 => 0x3F659974#32
  | 50 => 0xBF79EE89#32
  | 51 => 0x3F7FF067#32
  | 52 => 0xBF7746EA#32
  | 53 => 0x3F60712A#32
  | 54 => 0xBF3CBE35#32
  | 55 => 0x3F0E39DA#32
  | 56 => 0xBEAF1D44#32
  | 57 => 0x3DDEF599#32
  | 58 => 0x3E05A8A8#32
  | 59 => 0xBEB9917B#32
  | 60 => 0x3F12D5E8#32
  | 61 => 0xBF407893#32
  | 62 => 0x3F631324#32
  | 63 => 0xBF78A9E0#32
  | 64 => 0x3F800000#32
  | 65 => 0xBF79EE89#32
  | 66 => 0x3F6803CA#32
  | 67 => 0xBF4B1934#32
  | 68 => 0x3F248DBB#32
  | 69 => 0xBEEC6A50#32
  | 70 => 0x3E8483EE#32
  | 71 => 0xBD32AA3E#32
  | 72 => 0xBE31D0D4#32
  | 73 => 0x3EC3EF15#32
  | 74 => 0xBF12D5E8#32
  | 75 => 0x3F3CBE35#32
  | 76 => 0xBF5DB3D7#32
  | 77 => 0x3F7426CB#32
  | 78 => 0xBF7F069E#32
  | 79 => 0x3F7DCF55#32
  | 80 => 0xBF708FB2#32
  | 81 => 0x3F57E880#32
  | 82 => 0xBF3504F3#32
  | 83 => 0x3F098C78#32
  | 84 => 0xBEAF1D44#32
  | 85 => 0x3E05A8A8#32
  | 86 => 0x3DB27EB6#32
  | 87 => 0xBE99F61C#32
  | 88 => 0x3F000000#32
  | 89 => 0xBF2CF37B#32
  | 90 => 0x3F51B3F3#32
  | 91 => 0xBF6C835E#32
  | 92 => 0x3F7C1C5C#32
  | 93 => 0xBF7FC1A0#32
  | 94 => 0x3F7746EA#32
  | 95 => 0xBF631324#32
  | 96 => 0x3F441B7D#32
  | 97 => 0xBF1BD7CA#32
  | 98 => 0x3ED8616C#32
  | 99 => 0xBE5DA259#32
  | 100 => 0xA553C9CA#32
  | 101 => 0x3E5DA259#32
  | 102 => 0xBED8616C#32
  | 103 => 0x3F1BD7CA#32
  | 104 => 0xBF441B7D#32
  | 105 => 0x3F631324#32
  | 106 => 0xBF7746EA#32
  | 107 => 0x3F7FC1A0#32
  | 108 => 0xBF7C1C5C#32
  | 109 => 0x3F6C835E#32
  | 110 => 0xBF51B3F3#32
  | 111 => 0x3F2CF37B#32
  | 112 => 0xBF000000#32
  | 113 => 0x3E99F61C#32
  | 114 => 0xBDB27EB6#32
  | 115 => 0xBE05A8A8#32
  | 116 => 0x3EAF1D44#32
  | 117 => 0xBF098C78#32
  | 118 => 0x3F3504F3#32
  | 119 => 0xBF57E880#32
  | 120 => 0x3F708FB2#32
  | 121 => 0xBF7DCF55#32
  | 122 => 0x3F7F069E#32
  | 123 => 0xBF7426CB#32
  | 124 => 0x3F5DB3D7#32
  | 125 => 0xBF3CBE35#32
  | 126 => 0x3F12D5E8#32
  | 127 => 0xBEC3EF15#32
  | _ => 0#32

noncomputable abbrev lit0t0_302 (i : Nat) : BitVec 32 := match i % 128 with
  | 0 => 0x3E31D0D4#32
  | 1 => 0x3D32AA3E#32
  | 2 => 0xBE8483EE#32
  | 3 => 0x3EEC6A50#32
  | 4 => 0xBF248DBB#32
  | 5 => 0x3F4B1934#32
  | 6 => 0xBF6803CA#32
  | 7 => 0x3F79EE89#32
  | 8 => 0xBF800000#32
  | 9 => 0x3F79EE89#32
  | 10 => 0xBF6803CA#32
  | 11 => 0x3F4B1934#32
  | 12 => 0xBF248DBB#32
  | 13 => 0x3EEC6A50#32
  | 14 => 0xBE8483EE#32
  | 15 => 0x3D32AA3E#32
  | 16 => 0x3E31D0D4#32
  | 17 => 0xBEC3EF15#32
  | 18 => 0x3F12D5E8#32
  | 19 => 0xBF3CBE35#32
  | 20 => 0x3F5DB3D7#32
  | 21 => 0xBF7426CB#32
  | 22 => 0x3F7F069E#32
  | 23 => 0xBF7DCF55#32
  | 24 => 0x3F708FB2#32
  | 25 => 0xBF57E880#32
  | 26 => 0x3F3504F3#32
  | 27 => 0xBF098C78#32
  | 28 => 0x3EAF1D44#32
  | 29 => 0xBE05A8A8#32
  | 30 => 0xBDB27EB6#32
  | 31 => 0x3E99F61C#32
  | 32 => 0xBF000000#32
  | 33 => 0x3F2CF37B#32
  | 34 => 0xBF51B3F3#32
  | 35 => 0x3F6C835E#32
  | 36 => 0xBF7C1C5C#32
  | 37 => 0x3F7FC1A0#32
  | 38 => 0xBF7746EA#32
  | 39 => 0x3F631324#32
  | 40 => 0xBF441B7D#32
  | 41 => 0x3F1BD7CA#32
  | 42 => 0xBED8616C#32
  | 43 => 0x3E5DA259#32
  | 44 => 0x248D3132#32
  | 45 => 0xBE5DA259#32
  | 46 => 0x3ED8616C#32
  | 47 => 0xBF1BD7CA#32
  | 48 => 0x3F441B7D#32
  | 49 => 0xBF631324#32
  | 50 => 0x3F7746EA#32
  | 51 => 0xBF7FC1A0#32
  | 52 => 0x3F7C1C5C#32
  | 53 => 0xBF6C835E#32
  | 54 => 0x3F51B3F3#32
  | 55 => 0xBF2CF37B#32
  | 56 => 0x3F000000#32
  | 57 => 0xBE99F61C#32
  | 58 => 0x3DB27EB6#32
  | 59 => 0x3E05A8A8#32
  | 60 => 0xBEAF1D44#32
  | 61 => 0x3F098C78#32
  | 62 => 0xBF3504F3#32
  | 63 => 0x3F57E880#32
  | 64 => 0xBF708FB2#32
  | 65 => 0x3F7DCF55#32
  | 66 => 0xBF7F069E#32
  | 67 => 0x3F7426CB#32
  | 68 => 0xBF5DB3D7#32
  | 69 => 0x3F3CBE35#32
  | 70 => 0xBF12D5E8#32
  | 71 => 0x3EC3EF15#32
  | 72 => 0xBE31D0D4#32
  | 73 => 0xBD32AA3E#32
  | 74 => 0x3E8483EE#32
  | 75 => 0xBEEC6A50#32
  | 76 => 0x3F248DBB#32
  | 77 => 0xBF4B1934#32
  | 78 => 0x3F6803CA#32
  | 79 => 0xBF79EE89#32
  | 80 => 0x3F800000#32
  | 81 => 0xBF79EE89#32
  | 82 => 0x3F6803CA#32
  | 83 => 0xBF4B1934#32
  | 84 => 0x3F248DBB#32
  | 85 => 0xBEEC6A50#32
  | 86 => 0x3E8483EE#32
  | 87 => 0xBD32AA3E#32
  | 88 => 0xBE31D0D4#32
  | 89 => 0x3EC3EF15#32
  | 90 => 0xBF12D5E8#32
  | 91 => 0x3F3CBE35#32
  | 92 => 0xBF5DB3D7#32
  | 93 => 0x3F7426CB#32
  | 94 => 0xBF7F069E#32
  | 95 => 0x3F7DCF55#32
  | 96 => 0xBF708FB2#32
  | 97 => 0x3F57E880#32
  | 98 => 0xBF3504F3#32
  | 99 => 0x3F098C78#32
  | 100 => 0xBEAF1D44#32
  | 101 => 0x3E05A8A8#32
  | 102 => 0x3DB27EB6#32
  | 103 => 0xBE99F61C#32
  | 104 => 0x3F000000#32
  | 105 => 0xBF2CF37B#32
  | 106 => 0x3F51B3F3#32
  | 107 => 0xBF6C835E#32
  | 108 => 0x3F7C1C5C#32
  | 109 => 0xBF7FC1A0#32
  | 110 => 0x3F7746EA#32
  | 111 => 0xBF631324#32
  | 112 => 0x3F441B7D#32
  | 113 => 0xBF1BD7CA#32
  | 114 => 0x3ED8616C#32
  | 115 => 0xBE5DA259#32
  | 116 => 0xA553C9CA#32
  | 117 => 0x3E5DA259#32
  | 118 => 0xBED8616C#32
  | 119 => 0x3F1BD7CA#32
  | 120 => 0xBF441B7D#32
  | 121 => 0x3F631324#32
  | 122 => 0xBF7746EA#32
  | 123 => 0x3F7FC1A0#32
  | 124 => 0xBF7C1C5C#32
  | 125 => 0x3F6C835E#32
  | 126 => 0xBF51B3F3#32
  | 127 => 0x3F2CF37B#32
  | _ => 0#32

noncomputable abbrev lit0t0_303 (i : Nat) : BitVec 32 := match i % 128 with
  | 0 => 0xBF000000#32
  | 1 => 0x3E99F61C#32
  | 2 => 0xBDB27EB6#32
  | 3 => 0xBE05A8A8#32
  | 4 => 0x3EAF1D44#32
  | 5 => 0xBF098C78#32
  | 6 => 0x3F3504F3#32
  | 7 => 0xBF57E880#32
  | 8 => 0x3F708FB2#32
  | 9 => 0xBF7DCF55#32
  | 10 => 0x3F7F069E#32
  | 11 => 0xBF7426CB#32
  | 12 => 0x3F5DB3D7#32
  | 13 => 0xBF3CBE35#32
  | 14 => 0x3F12D5E8#32
  | 15 => 0xBEC3EF15#32
  | 16 => 0x3E31D0D4#32
  | 17 => 0x3D32AA3E#32
  | 18 => 0xBE8483EE#32
  | 19 => 0x3EEC6A50#32
  | 20 => 0xBF248DBB#32
  | 21 => 0x3F4B1934#32
  | 22 => 0xBF6803CA#32
  | 23 => 0x3F79EE89#32
  | 24 => 0xBF800000#32
  | 25 => 0x3F79EE89#32
  | 26 => 0xBF6803CA#32
  | 27 => 0x3F4B1934#32
  | 28 => 0xBF248DBB#32
  | 29 => 0x3EEC6A50#32
  | 30 => 0xBE8483EE#32
  | 31 => 0x3D32AA3E#32
  | 32 => 0x3E31D0D4#32
  | 33 => 0xBEC3EF15#32
  | 34 => 0x3F12D5E8#32
  | 35 => 0xBF3CBE35#32
  | 36 => 0x3F5DB3D7#32
  | 37 => 0xBF7426CB#32
  | 38 => 0x3F7F069E#32
  | 39 => 0xBF7DCF55#32
  | 40 => 0x3F708FB2#32
  | 41 => 0xBF57E880#32
  | 42 => 0x3F3504F3#32
  | 43 => 0xBF098C78#32
  | 44 => 0x3EAF1D44#32
  | 45 => 0xBE05A8A8#32
  | 46 => 0xBDB27EB6#32
  | 47 => 0x3E99F61C#32
  | 48 => 0xBF000000#32
  | 49 => 0x3F2CF37B#32
  | 50 => 0xBF51B3F3#32
  | 51 => 0x3F6C835E#32
  | 52 => 0xBF7C1C5C#32
  | 53 => 0x3F7FC1A0#32
  | 54 => 0xBF7746EA#32
  | 55 => 0x3F631324#32
  | 56 => 0xBF441B7D#32
  | 57 => 0x3F1BD7CA#32
  | 58 => 0xBED8616C#32
  | 59 => 0x3E5DA259#32
  | 60 => 0x248D3132#32
  | 61 => 0xBE5DA259#32
  | 62 => 0x3ED8616C#32
  | 63 => 0xBF1BD7CA#32
  | 64 => 0x3F441B7D#32
  | 65 => 0xBF631324#32
  | 66 => 0x3F7746EA#32
  | 67 => 0xBF7FC1A0#32
  | 68 => 0x3F7C1C5C#32
  | 69 => 0xBF6C835E#32
  | 70 => 0x3F51B3F3#32
  | 71 => 0xBF2CF37B#32
  | 72 => 0x3F000000#32
  | 73 => 0xBE99F61C#32
  | 74 => 0x3DB27EB6#32
  | 75 => 0x3E05A8A8#32
  | 76 => 0xBEAF1D44#32
  | 77 => 0x3F098C78#32
  | 78 => 0xBF3504F3#32
  | 79 => 0x3F57E880#32
  | 80 => 0xBF708FB2#32
  | 81 => 0x3F7DCF55#32
  | 82 => 0xBF7F069E#32
  | 83 => 0x3F7426CB#32
  | 84 => 0xBF5DB3D7#32
  | 85 => 0x3F3CBE35#32
  | 86 => 0xBF12D5E8#32
  | 87 => 0x3EC3EF15#32
  | 88 => 0xBE31D0D4#32
  | 89 => 0xBD32AA3E#32
  | 90 => 0x3E8483EE#32
  | 91 => 0xBEEC6A50#32
  | 92 => 0x3F248DBB#32
  | 93 => 0xBF4B1934#32
  | 94 => 0x3F6803CA#32
  | 95 => 0xBF79EE89#32
  | 96 => 0x3F800000#32
  | 97 => 0xBF7B14BE#32
  | 98 => 0x3F6C835E#32
  | 99 => 0xBF54DB31#32
  | 100 => 0x3F3504F3#32
  | 101 => 0xBF0E39DA#32
  | 102 => 0x3EC3EF15#32
  | 103 => 0xBE47C5C2#32
  | 104 => 0xA553C9CA#32
  | 105 => 0x3E47C5C2#32
  | 106 => 0xBEC3EF15#32
  | 107 => 0x3F0E39DA#32
  | 108 => 0xBF3504F3#32
  | 109 => 0x3F54DB31#32
  | 110 => 0xBF6C835E#32
  | 111 => 0x3F7B14BE#32
  | 112 => 0xBF800000#32
  | 113 => 0x3F7B14BE#32
  | 114 => 0xBF6C835E#32
  | 115 => 0x3F54DB31#32
  | 116 => 0xBF3504F3#32
  | 117 => 0x3F0E39DA#32
  | 118 => 0xBEC3EF15#32
  | 119 => 0x3E47C5C2#32
  | 120 => 0x248D3132#32
  | 121 => 0xBE47C5C2#32
  | 122 => 0x3EC3EF15#32
  | 123 => 0xBF0E39DA#32
  | 124 => 0x3F3504F3#32
  | 125 => 0xBF54DB31#32
  | 126 => 0x3F6C835E#32
  | 127 => 0xBF7B14BE#32
  | _ => 0#32

noncomputable abbrev lit0t0_304 (i : Nat) : BitVec 32 := match i % 128 with
  | 0 => 0x3F800000#32
  | 1 => 0xBF7B14BE#32
  | 2 => 0x3F6C835E#32
  | 3 => 0xBF54DB31#32
  | 4 => 0x3F3504F3#32
  | 5 => 0xBF0E39DA#32
  | 6 => 0x3EC3EF15#32
  | 7 => 0xBE47C5C2#32
  | 8 => 0xA553C9CA#32
  | 9 => 0x3E47C5C2#32
  | 10 => 0xBEC3EF15#32
  | 11 => 0x3F0E39DA#32
  | 12 => 0xBF3504F3#32
  | 13 => 0x3F54DB31#32
  | 14 => 0xBF6C835E#32
  | 15 => 0x3F7B14BE#32
  | 16 => 0xBF800000#32
  | 17 => 0x3F7B14BE#32
  | 18 => 0xBF6C835E#32
  | 19 => 0x3F54DB31#32
  | 20 => 0xBF3504F3#32
  | 21 => 0x3F0E39DA#32
  | 22 => 0xBEC3EF15#32
  | 23 => 0x3E47C5C2#32
  | 24 => 0x248D3132#32
  | 25 => 0xBE47C5C2#32
  | 26 => 0x3EC3EF15#32
  | 27 => 0xBF0E39DA#32
  | 28 => 0x3F3504F3#32
  | 29 => 0xBF54DB31#32
  | 30 => 0x3F6C835E#32
  | 31 => 0xBF7B14BE#32
  | 32 => 0x3F800000#32
  | 33 => 0xBF7B14BE#32
  | 34 => 0x3F6C835E#32
  | 35 => 0xBF54DB31#32
  | 36 => 0x3F3504F3#32
  | 37 => 0xBF0E39DA#32
  | 38 => 0x3EC3EF15#32
  | 39 => 0xBE47C5C2#32
  | 40 => 0xA553C9CA#32
  | 41 => 0x3E47C5C2#32
  | 42 => 0xBEC3EF15#32
  | 43 => 0x3F0E39DA#32
  | 44 => 0xBF3504F3#32
  | 45 => 0x3F54DB31#32
  | 46 => 0xBF6C835E#32
  | 47 => 0x3F7B14BE#32
  | 48 => 0xBF800000#32
  | 49 => 0x3F7B14BE#32
  | 50 => 0xBF6C835E#32
  | 51 => 0x3F54DB31#32
  | 52 => 0xBF3504F3#32
  | 53 => 0x3F0E39DA#32
  | 54 => 0xBEC3EF15#32
  | 55 => 0x3E47C5C2#32
  | 56 => 0x248D3132#32
  | 57 => 0xBE47C5C2#32
  | 58 => 0x3EC3EF15#32
  | 59 => 0xBF0E39DA#32
  | 60 => 0x3F3504F3#32
  | 61 => 0xBF54DB31#32
  | 62 => 0x3F6C835E#32
  | 63 => 0xBF7B14BE#32
  | 64 => 0x3F800000#32
  | 65 => 0xBF7B14BE#32
  | 66 => 0x3F6C835E#32
  | 67 => 0xBF54DB31#32
  | 68 => 0x3F3504F3#32
  | 69 => 0xBF0E39DA#32
  | 70 => 0x3EC3EF15#32
  | 71 => 0xBE47C5C2#32
  | 72 => 0xA553C9CA#32
  | 73 => 0x3E47C5C2#32
  | 74 => 0xBEC3EF15#32
  | 75 => 0x3F0E39DA#32
  | 76 => 0xBF3504F3#32
  | 77 => 0x3F54DB31#32
  | 78 => 0xBF6C835E#32
  | 79 => 0x3F7B14BE#32
  | 80 => 0xBF800000#32
  | 81 => 0x3F7B14BE#32
  | 82 => 0xBF6C835E#32
  | 83 => 0x3F54DB31#32
  | 84 => 0xBF3504F3#32
  | 85 => 0x3F0E39DA#32
  | 86 => 0xBEC3EF15#32
  | 87 => 0x3E47C5C2#32
  | 88 => 0x248D3132#32
  | 89 => 0xBE47C5C2#32
  | 90 => 0x3EC3EF15#32
  | 91 => 0xBF0E39DA#32
  | 92 => 0x3F3504F3#32
  | 93 => 0xBF54DB31#32
  | 94 => 0x3F6C835E#32
  | 95 => 0xBF7B14BE#32
  | 96 => 0x3F800000#32
  | 97 => 0xBF7B14BE#32
  | 98 => 0x3F6C835E#32
  | 99 => 0xBF54DB31#32
  | 100 => 0x3F3504F3#32
  | 101 => 0xBF0E39DA#32
  | 102 => 0x3EC3EF15#32
  | 103 => 0xBE47C5C2#32
  | 104 => 0xA553C9CA#32
  | 105 => 0x3E47C5C2#32
  | 106 => 0xBEC3EF15#32
  | 107 => 0x3F0E39DA#32
  | 108 => 0xBF3504F3#32
  | 109 => 0x3F54DB31#32
  | 110 => 0xBF6C835E#32
  | 111 => 0x3F7B14BE#32
  | 112 => 0xBF800000#32
  | 113 => 0x3F7B14BE#32
  | 114 => 0xBF6C835E#32
  | 115 => 0x3F54DB31#32
  | 116 => 0xBF3504F3#32
  | 117 => 0x3F0E39DA#32
  | 118 => 0xBEC3EF15#32
  | 119 => 0x3E47C5C2#32
  | 120 => 0x248D3132#32
  | 121 => 0xBE47C5C2#32
  | 122 => 0x3EC3EF15#32
  | 123 => 0xBF0E39DA#32
  | 124 => 0x3F3504F3#32
  | 125 => 0xBF54DB31#32
  | 126 => 0x3F6C835E#32
  | 127 => 0xBF7B14BE#32
  | _ => 0#32

noncomputable abbrev lit0t0_305 (i : Nat) : BitVec 32 := match i % 128 with
  | 0 => 0x3F800000#32
  | 1 => 0xBF7B14BE#32
  | 2 => 0x3F6C835E#32
  | 3 => 0xBF54DB31#32
  | 4 => 0x3F3504F3#32
  | 5 => 0xBF0E39DA#32
  | 6 => 0x3EC3EF15#32
  | 7 => 0xBE47C5C2#32
  | 8 => 0xA553C9CA#32
  | 9 => 0x3E47C5C2#32
  | 10 => 0xBEC3EF15#32
  | 11 => 0x3F0E39DA#32
  | 12 => 0xBF3504F3#32
  | 13 => 0x3F54DB31#32
  | 14 => 0xBF6C835E#32
  | 15 => 0x3F7B14BE#32
  | 16 => 0xBF800000#32
  | 17 => 0x3F7B14BE#32
  | 18 => 0xBF6C835E#32
  | 19 => 0x3F54DB31#32
  | 20 => 0xBF3504F3#32
  | 21 => 0x3F0E39DA#32
  | 22 => 0xBEC3EF15#32
  | 23 => 0x3E47C5C2#32
  | 24 => 0x248D3132#32
  | 25 => 0xBE47C5C2#32
  | 26 => 0x3EC3EF15#32
  | 27 => 0xBF0E39DA#32
  | 28 => 0x3F3504F3#32
  | 29 => 0xBF54DB31#32
  | 30 => 0x3F6C835E#32
  | 31 => 0xBF7B14BE#32
  | 32 => 0x3F800000#32
  | 33 => 0xBF7B14BE#32
  | 34 => 0x3F6C835E#32
  | 35 => 0xBF54DB31#32
  | 36 => 0x3F3504F3#32
  | 37 => 0xBF0E39DA#32
  | 38 => 0x3EC3EF15#32
  | 39 => 0xBE47C5C2#32
  | 40 => 0xA553C9CA#32
  | 41 => 0x3E47C5C2#32
  | 42 => 0xBEC3EF15#32
  | 43 => 0x3F0E39DA#32
  | 44 => 0xBF3504F3#32
  | 45 => 0x3F54DB31#32
  | 46 => 0xBF6C835E#32
  | 47 => 0x3F7B14BE#32
  | 48 => 0xBF800000#32
  | 49 => 0x3F7B14BE#32
  | 50 => 0xBF6C835E#32
  | 51 => 0x3F54DB31#32
  | 52 => 0xBF3504F3#32
  | 53 => 0x3F0E39DA#32
  | 54 => 0xBEC3EF15#32
  | 55 => 0x3E47C5C2#32
  | 56 => 0x248D3132#32
  | 57 => 0xBE47C5C2#32
  | 58 => 0x3EC3EF15#32
  | 59 => 0xBF0E39DA#32
  | 60 => 0x3F3504F3#32
  | 61 => 0xBF54DB31#32
  | 62 => 0x3F6C835E#32
  | 63 => 0xBF7B14BE#32
  | 64 => 0x3F800000#32
  | 65 => 0xBF7B14BE#32
  | 66 => 0x3F6C835E#32
  | 67 => 0xBF54DB31#32
  | 68 => 0x3F3504F3#32
  | 69 => 0xBF0E39DA#32
  | 70 => 0x3EC3EF15#32
  | 71 => 0xBE47C5C2#32
  | 72 => 0xA553C9CA#32
  | 73 => 0x3E47C5C2#32
  | 74 => 0xBEC3EF15#32
  | 75 => 0x3F0E39DA#32
  | 76 => 0xBF3504F3#32
  | 77 => 0x3F54DB31#32
  | 78 => 0xBF6C835E#32
  | 79 => 0x3F7B14BE#32
  | 80 => 0xBF800000#32
  | 81 => 0x3F7B14BE#32
  | 82 => 0xBF6C835E#32
  | 83 => 0x3F54DB31#32
  | 84 => 0xBF3504F3#32
  | 85 => 0x3F0E39DA#32
  | 86 => 0xBEC3EF15#32
  | 87 => 0x3E47C5C2#32
  | 88 => 0x248D3132#32
  | 89 => 0xBE47C5C2#32
  | 90 => 0x3EC3EF15#32
  | 91 => 0xBF0E39DA#32
  | 92 => 0x3F3504F3#32
  | 93 => 0xBF54DB31#32
  | 94 => 0x3F6C835E#32
  | 95 => 0xBF7B14BE#32
  | 96 => 0x3F800000#32
  | 97 => 0xBF7B14BE#32
  | 98 => 0x3F6C835E#32
  | 99 => 0xBF54DB31#32
  | 100 => 0x3F3504F3#32
  | 101 => 0xBF0E39DA#32
  | 102 => 0x3EC3EF15#32
  | 103 => 0xBE47C5C2#32
  | 104 => 0xA553C9CA#32
  | 105 => 0x3E47C5C2#32
  | 106 => 0xBEC3EF15#32
  | 107 => 0x3F0E39DA#32
  | 108 => 0xBF3504F3#32
  | 109 => 0x3F54DB31#32
  | 110 => 0xBF6C835E#32
  | 111 => 0x3F7B14BE#32
  | 112 => 0xBF800000#32
  | 113 => 0x3F7B14BE#32
  | 114 => 0xBF6C835E#32
  | 115 => 0x3F54DB31#32
  | 116 => 0xBF3504F3#32
  | 117 => 0x3F0E39DA#32
  | 118 => 0xBEC3EF15#32
  | 119 => 0x3E47C5C2#32
  | 120 => 0x248D3132#32
  | 121 => 0xBE47C5C2#32
  | 122 => 0x3EC3EF15#32
  | 123 => 0xBF0E39DA#32
  | 124 => 0x3F3504F3#32
  | 125 => 0xBF54DB31#32
  | 126 => 0x3F6C835E#32
  | 127 => 0xBF7B14BE#32
  | _ => 0#32

noncomputable abbrev lit0t0_306 (i : Nat) : BitVec 32 := match i % 128 with
  | 0 => 0x3F800000#32
  | 1 => 0xBF7C1C5C#32
  | 2 => 0x3F708FB2#32
  | 3 => 0xBF5DB3D7#32
  | 4 => 0x3F441B7D#32
  | 5 => 0xBF248DBB#32
  | 6 => 0x3F000000#32
  | 7 => 0xBEAF1D44#32
  | 8 => 0x3E31D0D4#32
  | 9 => 0x248D3132#32
  | 10 => 0xBE31D0D4#32
  | 11 => 0x3EAF1D44#32
  | 12 => 0xBF000000#32
  | 13 => 0x3F248DBB#32
  | 14 => 0xBF441B7D#32
  | 15 => 0x3F5DB3D7#32
  | 16 => 0xBF708FB2#32
  | 17 => 0x3F7C1C5C#32
  | 18 => 0xBF800000#32
  | 19 => 0x3F7C1C5C#32
  | 20 => 0xBF708FB2#32
  | 21 => 0x3F5DB3D7#32
  | 22 => 0xBF441B7D#32
  | 23 => 0x3F248DBB#32
  | 24 => 0xBF000000#32
  | 25 => 0x3EAF1D44#32
  | 26 => 0xBE31D0D4#32
  | 27 => 0xA553C9CA#32
  | 28 => 0x3E31D0D4#32
  | 29 => 0xBEAF1D44#32
  | 30 => 0x3F000000#32
  | 31 => 0xBF248DBB#32
  | 32 => 0x3F441B7D#32
  | 33 => 0xBF5DB3D7#32
  | 34 => 0x3F708FB2#32
  | 35 => 0xBF7C1C5C#32
  | 36 => 0x3F800000#32
  | 37 => 0xBF7C1C5C#32
  | 38 => 0x3F708FB2#32
  | 39 => 0xBF5DB3D7#32
  | 40 => 0x3F441B7D#32
  | 41 => 0xBF248DBB#32
  | 42 => 0x3F000000#32
  | 43 => 0xBEAF1D44#32
  | 44 => 0x3E31D0D4#32
  | 45 => 0x248D3132#32
  | 46 => 0xBE31D0D4#32
  | 47 => 0x3EAF1D44#32
  | 48 => 0xBF000000#32
  | 49 => 0x3F248DBB#32
  | 50 => 0xBF441B7D#32
  | 51 => 0x3F5DB3D7#32
  | 52 => 0xBF708FB2#32
  | 53 => 0x3F7C1C5C#32
  | 54 => 0xBF800000#32
  | 55 => 0x3F7C1C5C#32
  | 56 => 0xBF708FB2#32
  | 57 => 0x3F5DB3D7#32
  | 58 => 0xBF441B7D#32
  | 59 => 0x3F248DBB#32
  | 60 => 0xBF000000#32
  | 61 => 0x3EAF1D44#32
  | 62 => 0xBE31D0D4#32
  | 63 => 0xA553C9CA#32
  | 64 => 0x3E31D0D4#32
  | 65 => 0xBEAF1D44#32
  | 66 => 0x3F000000#32
  | 67 => 0xBF248DBB#32
  | 68 => 0x3F441B7D#32
  | 69 => 0xBF5DB3D7#32
  | 70 => 0x3F708FB2#32
  | 71 => 0xBF7C1C5C#32
  | 72 => 0x3F800000#32
  | 73 => 0xBF7C1C5C#32
  | 74 => 0x3F708FB2#32
  | 75 => 0xBF5DB3D7#32
  | 76 => 0x3F441B7D#32
  | 77 => 0xBF248DBB#32
  | 78 => 0x3F000000#32
  | 79 => 0xBEAF1D44#32
  | 80 => 0x3E31D0D4#32
  | 81 => 0x248D3132#32
  | 82 => 0xBE31D0D4#32
  | 83 => 0x3EAF1D44#32
  | 84 => 0xBF000000#32
  | 85 => 0x3F248DBB#32
  | 86 => 0xBF441B7D#32
  | 87 => 0x3F5DB3D7#32
  | 88 => 0xBF708FB2#32
  | 89 => 0x3F7C1C5C#32
  | 90 => 0xBF800000#32
  | 91 => 0x3F7C1C5C#32
  | 92 => 0xBF708FB2#32
  | 93 => 0x3F5DB3D7#32
  | 94 => 0xBF441B7D#32
  | 95 => 0x3F248DBB#32
  | 96 => 0xBF000000#32
  | 97 => 0x3EAF1D44#32
  | 98 => 0xBE31D0D4#32
  | 99 => 0xA553C9CA#32
  | 100 => 0x3E31D0D4#32
  | 101 => 0xBEAF1D44#32
  | 102 => 0x3F000000#32
  | 103 => 0xBF248DBB#32
  | 104 => 0x3F441B7D#32
  | 105 => 0xBF5DB3D7#32
  | 106 => 0x3F708FB2#32
  | 107 => 0xBF7C1C5C#32
  | 108 => 0x3F800000#32
  | 109 => 0xBF7C1C5C#32
  | 110 => 0x3F708FB2#32
  | 111 => 0xBF5DB3D7#32
  | 112 => 0x3F441B7D#32
  | 113 => 0xBF248DBB#32
  | 114 => 0x3F000000#32
  | 115 => 0xBEAF1D44#32
  | 116 => 0x3E31D0D4#32
  | 117 => 0x248D3132#32
  | 118 => 0xBE31D0D4#32
  | 119 => 0x3EAF1D44#32
  | 120 => 0xBF000000#32
  | 121 => 0x3F248DBB#32
  | 122 => 0xBF441B7D#32
  | 123 => 0x3F5DB3D7#32
  | 124 => 0xBF708FB2#32
  | 125 => 0x3F7C1C5C#32
  | 126 => 0xBF800000#32
  | 127 => 0x3F7C1C5C#32
  | _ => 0#32

noncomputable abbrev lit0t0_307 (i : Nat) : BitVec 32 := match i % 128 with
  | 0 => 0xBF708FB2#32
  | 1 => 0x3F5DB3D7#32
  | 2 => 0xBF441B7D#32
  | 3 => 0x3F248DBB#32
  | 4 => 0xBF000000#32
  | 5 => 0x3EAF1D44#32
  | 6 => 0xBE31D0D4#32
  | 7 => 0xA553C9CA#32
  | 8 => 0x3E31D0D4#32
  | 9 => 0xBEAF1D44#32
  | 10 => 0x3F000000#32
  | 11 => 0xBF248DBB#32
  | 12 => 0x3F441B7D#32
  | 13 => 0xBF5DB3D7#32
  | 14 => 0x3F708FB2#32
  | 15 => 0xBF7C1C5C#32
  | 16 => 0x3F800000#32
  | 17 => 0xBF7C1C5C#32
  | 18 => 0x3F708FB2#32
  | 19 => 0xBF5DB3D7#32
  | 20 => 0x3F441B7D#32
  | 21 => 0xBF248DBB#32
  | 22 => 0x3F000000#32
  | 23 => 0xBEAF1D44#32
  | 24 => 0x3E31D0D4#32
  | 25 => 0x248D3132#32
  | 26 => 0xBE31D0D4#32
  | 27 => 0x3EAF1D44#32
  | 28 => 0xBF000000#32
  | 29 => 0x3F248DBB#32
  | 30 => 0xBF441B7D#32
  | 31 => 0x3F5DB3D7#32
  | 32 => 0xBF708FB2#32
  | 33 => 0x3F7C1C5C#32
  | 34 => 0xBF800000#32
  | 35 => 0x3F7C1C5C#32
  | 36 => 0xBF708FB2#32
  | 37 => 0x3F5DB3D7#32
  | 38 => 0xBF441B7D#32
  | 39 => 0x3F248DBB#32
  | 40 => 0xBF000000#32
  | 41 => 0x3EAF1D44#32
  | 42 => 0xBE31D0D4#32
  | 43 => 0xA553C9CA#32
  | 44 => 0x3E31D0D4#32
  | 45 => 0xBEAF1D44#32
  | 46 => 0x3F000000#32
  | 47 => 0xBF248DBB#32
  | 48 => 0x3F441B7D#32
  | 49 => 0xBF5DB3D7#32
  | 50 => 0x3F708FB2#32
  | 51 => 0xBF7C1C5C#32
  | 52 => 0x3F800000#32
  | 53 => 0xBF7C1C5C#32
  | 54 => 0x3F708FB2#32
  | 55 => 0xBF5DB3D7#32
  | 56 => 0x3F441B7D#32
  | 57 => 0xBF248DBB#32
  | 58 => 0x3F000000#32
  | 59 => 0xBEAF1D44#32
  | 60 => 0x3E31D0D4#32
  | 61 => 0x248D3132#32
  | 62 => 0xBE31D0D4#32
  | 63 => 0x3EAF1D44#32
  | 64 => 0xBF000000#32
  | 65 => 0x3F248DBB#32
  | 66 => 0xBF441B7D#32
  | 67 => 0x3F5DB3D7#32
  | 68 => 0xBF708FB2#32
  | 69 => 0x3F7C1C5C#32
  | 70 => 0xBF800000#32
  | 71 => 0x3F7C1C5C#32
  | 72 => 0xBF708FB2#32
  | 73 => 0x3F5DB3D7#32
  | 74 => 0xBF441B7D#32
  | 75 => 0x3F248DBB#32
  | 76 => 0xBF000000#32
  | 77 => 0x3EAF1D44#32
  | 78 => 0xBE31D0D4#32
  | 79 => 0xA553C9CA#32
  | 80 => 0x3E31D0D4#32
  | 81 => 0xBEAF1D44#32
  | 82 => 0x3F000000#32
  | 83 => 0xBF248DBB#32
  | 84 => 0x3F441B7D#32
  | 85 => 0xBF5DB3D7#32
  | 86 => 0x3F708FB2#32
  | 87 => 0xBF7C1C5C#32
  | 88 => 0x3F800000#32
  | 89 => 0xBF7C1C5C#32
  | 90 => 0x3F708FB2#32
  | 91 => 0xBF5DB3D7#32
  | 92 => 0x3F441B7D#32
  | 93 => 0xBF248DBB#32
  | 94 => 0x3F000000#32
  | 95 => 0xBEAF1D44#32
  | 96 => 0x3E31D0D4#32
  | 97 => 0x248D3132#32
  | 98 => 0xBE31D0D4#32
  | 99 => 0x3EAF1D44#32
  | 100 => 0xBF000000#32
  | 101 => 0x3F248DBB#32
  | 102 => 0xBF441B7D#32
  | 103 => 0x3F5DB3D7#32
  | 104 => 0xBF708FB2#32
  | 105 => 0x3F7C1C5C#32
  | 106 => 0xBF800000#32
  | 107 => 0x3F7C1C5C#32
  | 108 => 0xBF708FB2#32
  | 109 => 0x3F5DB3D7#32
  | 110 => 0xBF441B7D#32
  | 111 => 0x3F248DBB#32
  | 112 => 0xBF000000#32
  | 113 => 0x3EAF1D44#32
  | 114 => 0xBE31D0D4#32
  | 115 => 0xA553C9CA#32
  | 116 => 0x3E31D0D4#32
  | 117 => 0xBEAF1D44#32
  | 118 => 0x3F000000#32
  | 119 => 0xBF248DBB#32
  | 120 => 0x3F441B7D#32
  | 121 => 0xBF5DB3D7#32
  | 122 => 0x3F708FB2#32
  | 123 => 0xBF7C1C5C#32
  | 124 => 0x3F800000#32
  | 125 => 0xBF7C1C5C#32
  | 126 => 0x3F708FB2#32
  | 127 => 0xBF5DB3D7#32
  | _ => 0#32

noncomputable abbrev lit0t0_308 (i : Nat) : BitVec 32 := match i % 128 with
  | 0 => 0x3F441B7D#32
  | 1 => 0xBF248DBB#32
  | 2 => 0x3F000000#32
  | 3 => 0xBEAF1D44#32
  | 4 => 0x3E31D0D4#32
  | 5 => 0x248D3132#32
  | 6 => 0xBE31D0D4#32
  | 7 => 0x3EAF1D44#32
  | 8 => 0xBF000000#32
  | 9 => 0x3F248DBB#32
  | 10 => 0xBF441B7D#32
  | 11 => 0x3F5DB3D7#32
  | 12 => 0xBF708FB2#32
  | 13 => 0x3F7C1C5C#32
  | 14 => 0xBF800000#32
  | 15 => 0x3F7C1C5C#32
  | 16 => 0xBF708FB2#32
  | 17 => 0x3F5DB3D7#32
  | 18 => 0xBF441B7D#32
  | 19 => 0x3F248DBB#32
  | 20 => 0xBF000000#32
  | 21 => 0x3EAF1D44#32
  | 22 => 0xBE31D0D4#32
  | 23 => 0xA553C9CA#32
  | 24 => 0x3E31D0D4#32
  | 25 => 0xBEAF1D44#32
  | 26 => 0x3F000000#32
  | 27 => 0xBF248DBB#32
  | 28 => 0x3F441B7D#32
  | 29 => 0xBF5DB3D7#32
  | 30 => 0x3F708FB2#32
  | 31 => 0xBF7C1C5C#32
  | 32 => 0x3F800000#32
  | 33 => 0xBF7D0543#32
  | 34 => 0x3F7426CB#32
  | 35 => 0xBF659974#32
  | 36 => 0x3F51B3F3#32
  | 37 => 0xBF38ECD8#32
  | 38 => 0x3F1BD7CA#32
  | 39 => 0xBEF64429#32
  | 40 => 0x3EAF1D44#32
  | 41 => 0xBE47C5C2#32
  | 42 => 0x3D32AA3E#32
  | 43 => 0x3DDEF599#32
  | 44 => 0xBE8483EE#32
  | 45 => 0x3ECE34D0#32
  | 46 => 0xBF098C78#32
  | 47 => 0x3F28CAE3#32
  | 48 => 0xBF441B7D#32
  | 49 => 0x3F5ADB81#32
  | 50 => 0xBF6C835E#32
  | 51 => 0x3F78A9E0#32
  | 52 => 0xBF7F069E#32
  | 53 => 0x3F7F73AF#32
  | 54 => 0xBF79EE89#32
  | 55 => 0x3F6E9811#32
  | 56 => 0xBF5DB3D7#32
  | 57 => 0x3F47A682#32
  | 58 => 0xBF2CF37B#32
  | 59 => 0x3F0E39DA#32
  | 60 => 0xBED8616C#32
  | 61 => 0x3E8F45C0#32
  | 62 => 0xBE05A8A8#32
  | 63 => 0xBCB2B521#32
  | 64 => 0x3E31D0D4#32
  | 65 => 0xBEA493B7#32
  | 66 => 0x3EEC6A50#32
  | 67 => 0xBF176012#32
  | 68 => 0x3F3504F3#32
  | 69 => 0xBF4E7327#32
  | 70 => 0x3F631324#32
  | 71 => 0xBF726A03#32
  | 72 => 0x3F7C1C5C#32
  | 73 => 0xBF7FF067#32
  | 74 => 0x3F7DCF55#32
  | 75 => 0xBF75C5D4#32
  | 76 => 0x3F6803CA#32
  | 77 => 0xBF54DB31#32
  | 78 => 0x3F3CBE35#32
  | 79 => 0xBF203C85#32
  | 80 => 0x3F000000#32
  | 81 => 0xBEB9917B#32
  | 82 => 0x3E5DA259#32
  | 83 => 0xBD85F213#32
  | 84 => 0xBDB27EB6#32
  | 85 => 0x3E7363EE#32
  | 86 => 0xBEC3EF15#32
  | 87 => 0x3F04CE53#32
  | 88 => 0xBF248DBB#32
  | 89 => 0x3F407893#32
  | 90 => 0xBF57E880#32
  | 91 => 0x3F6A51DA#32
  | 92 => 0xBF7746EA#32
  | 93 => 0x3F7E7A7A#32
  | 94 => 0xBF7FC1A0#32
  | 95 => 0x3F7B14BE#32
  | 96 => 0xBF708FB2#32
  | 97 => 0x3F60712A#32
  | 98 => 0xBF4B1934#32
  | 99 => 0x3F310700#32
  | 100 => 0xBF12D5E8#32
  | 101 => 0x3EE273AA#32
  | 102 => 0xBE99F61C#32
  | 103 => 0x3E1BC63C#32
  | 104 => 0x248D3132#32
  | 105 => 0xBE1BC63C#32
  | 106 => 0x3E99F61C#32
  | 107 => 0xBEE273AA#32
  | 108 => 0x3F12D5E8#32
  | 109 => 0xBF310700#32
  | 110 => 0x3F4B1934#32
  | 111 => 0xBF60712A#32
  | 112 => 0x3F708FB2#32
  | 113 => 0xBF7B14BE#32
  | 114 => 0x3F7FC1A0#32
  | 115 => 0xBF7E7A7A#32
  | 116 => 0x3F7746EA#32
  | 117 => 0xBF6A51DA#32
  | 118 => 0x3F57E880#32
  | 119 => 0xBF407893#32
  | 120 => 0x3F248DBB#32
  | 121 => 0xBF04CE53#32
  | 122 => 0x3EC3EF15#32
  | 123 => 0xBE7363EE#32
  | 124 => 0x3DB27EB6#32
  | 125 => 0x3D85F213#32
  | 126 => 0xBE5DA259#32
  | 127 => 0x3EB9917B#32
  | _ => 0#32

noncomputable abbrev lit0t0_309 (i : Nat) : BitVec 32 := match i % 128 with
  | 0 => 0xBF000000#32
  | 1 => 0x3F203C85#32
  | 2 => 0xBF3CBE35#32
  | 3 => 0x3F54DB31#32
  | 4 => 0xBF6803CA#32
  | 5 => 0x3F75C5D4#32
  | 6 => 0xBF7DCF55#32
  | 7 => 0x3F7FF067#32
  | 8 => 0xBF7C1C5C#32
  | 9 => 0x3F726A03#32
  | 10 => 0xBF631324#32
  | 11 => 0x3F4E7327#32
  | 12 => 0xBF3504F3#32
  | 13 => 0x3F176012#32
  | 14 => 0xBEEC6A50#32
  | 15 => 0x3EA493B7#32
  | 16 => 0xBE31D0D4#32
  | 17 => 0x3CB2B521#32
  | 18 => 0x3E05A8A8#32
  | 19 => 0xBE8F45C0#32
  | 20 => 0x3ED8616C#32
  | 21 => 0xBF0E39DA#32
  | 22 => 0x3F2CF37B#32
  | 23 => 0xBF47A682#32
  | 24 => 0x3F5DB3D7#32
  | 25 => 0xBF6E9811#32
  | 26 => 0x3F79EE89#32
  | 27 => 0xBF7F73AF#32
  | 28 => 0x3F7F069E#32
  | 29 => 0xBF78A9E0#32
  | 30 => 0x3F6C835E#32
  | 31 => 0xBF5ADB81#32
  | 32 => 0x3F441B7D#32
  | 33 => 0xBF28CAE3#32
  | 34 => 0x3F098C78#32
  | 35 => 0xBECE34D0#32
  | 36 => 0x3E8483EE#32
  | 37 => 0xBDDEF599#32
  | 38 => 0xBD32AA3E#32
  | 39 => 0x3E47C5C2#32
  | 40 => 0xBEAF1D44#32
  | 41 => 0x3EF64429#32
  | 42 => 0xBF1BD7CA#32
  | 43 => 0x3F38ECD8#32
  | 44 => 0xBF51B3F3#32
  | 45 => 0x3F659974#32
  | 46 => 0xBF7426CB#32
  | 47 => 0x3F7D0543#32
  | 48 => 0xBF800000#32
  | 49 => 0x3F7D0543#32
  | 50 => 0xBF7426CB#32
  | 51 => 0x3F659974#32
  | 52 => 0xBF51B3F3#32
  | 53 => 0x3F38ECD8#32
  | 54 => 0xBF1BD7CA#32
  | 55 => 0x3EF64429#32
  | 56 => 0xBEAF1D44#32
  | 57 => 0x3E47C5C2#32
  | 58 => 0xBD32AA3E#32
  | 59 => 0xBDDEF599#32
  | 60 => 0x3E8483EE#32
  | 61 => 0xBECE34D0#32
  | 62 => 0x3F098C78#32
  | 63 => 0xBF28CAE3#32
  | 64 => 0x3F441B7D#32
  | 65 => 0xBF5ADB81#32
  | 66 => 0x3F6C835E#32
  | 67 => 0xBF78A9E0#32
  | 68 => 0x3F7F069E#32
  | 69 => 0xBF7F73AF#32
  | 70 => 0x3F79EE89#32
  | 71 => 0xBF6E9811#32
  | 72 => 0x3F5DB3D7#32
  | 73 => 0xBF47A682#32
  | 74 => 0x3F2CF37B#32
  | 75 => 0xBF0E39DA#32
  | 76 => 0x3ED8616C#32
  | 77 => 0xBE8F45C0#32
  | 78 => 0x3E05A8A8#32
  | 79 => 0x3CB2B521#32
  | 80 => 0xBE31D0D4#32
  | 81 => 0x3EA493B7#32
  | 82 => 0xBEEC6A50#32
  | 83 => 0x3F176012#32
  | 84 => 0xBF3504F3#32
  | 85 => 0x3F4E7327#32
  | 86 => 0xBF631324#32
  | 87 => 0x3F726A03#32
  | 88 => 0xBF7C1C5C#32
  | 89 => 0x3F7FF067#32
  | 90 => 0xBF7DCF55#32
  | 91 => 0x3F75C5D4#32
  | 92 => 0xBF6803CA#32
  | 93 => 0x3F54DB31#32
  | 94 => 0xBF3CBE35#32
  | 95 => 0x3F203C85#32
  | 96 => 0xBF000000#32
  | 97 => 0x3EB9917B#32
  | 98 => 0xBE5DA259#32
  | 99 => 0x3D85F213#32
  | 100 => 0x3DB27EB6#32
  | 101 => 0xBE7363EE#32
  | 102 => 0x3EC3EF15#32
  | 103 => 0xBF04CE53#32
  | 104 => 0x3F248DBB#32
  | 105 => 0xBF407893#32
  | 106 => 0x3F57E880#32
  | 107 => 0xBF6A51DA#32
  | 108 => 0x3F7746EA#32
  | 109 => 0xBF7E7A7A#32
  | 110 => 0x3F7FC1A0#32
  | 111 => 0xBF7B14BE#32
  | 112 => 0x3F708FB2#32
  | 113 => 0xBF60712A#32
  | 114 => 0x3F4B1934#32
  | 115 => 0xBF310700#32
  | 116 => 0x3F12D5E8#32
  | 117 => 0xBEE273AA#32
  | 118 => 0x3E99F61C#32
  | 119 => 0xBE1BC63C#32
  | 120 => 0xA553C9CA#32
  | 121 => 0x3E1BC63C#32
  | 122 => 0xBE99F61C#32
  | 123 => 0x3EE273AA#32
  | 124 => 0xBF12D5E8#32
  | 125 => 0x3F310700#32
  | 126 => 0xBF4B1934#32
  | 127 => 0x3F60712A#32
  | _ => 0#32

noncomputable abbrev lit0t0_310 (i : Nat) : BitVec 32 := match i % 128 with
  | 0 => 0xBF708FB2#32
  | 1 => 0x3F7B14BE#32
  | 2 => 0xBF7FC1A0#32
  | 3 => 0x3F7E7A7A#32
  | 4 => 0xBF7746EA#32
  | 5 => 0x3F6A51DA#32
  | 6 => 0xBF57E880#32
  | 7 => 0x3F407893#32
  | 8 => 0xBF248DBB#32
  | 9 => 0x3F04CE53#32
  | 10 => 0xBEC3EF15#32
  | 11 => 0x3E7363EE#32
  | 12 => 0xBDB27EB6#32
  | 13 => 0xBD85F213#32
  | 14 => 0x3E5DA259#32
  | 15 => 0xBEB9917B#32
  | 16 => 0x3F000000#32
  | 17 => 0xBF203C85#32
  | 18 => 0x3F3CBE35#32
  | 19 => 0xBF54DB31#32
  | 20 => 0x3F6803CA#32
  | 21 => 0xBF75C5D4#32
  | 22 => 0x3F7DCF55#32
  | 23 => 0xBF7FF067#32
  | 24 => 0x3F7C1C5C#32
  | 25 => 0xBF726A03#32
  | 26 => 0x3F631324#32
  | 27 => 0xBF4E7327#32
  | 28 => 0x3F3504F3#32
  | 29 => 0xBF176012#32
  | 30 => 0x3EEC6A50#32
  | 31 => 0xBEA493B7#32
  | 32 => 0x3E31D0D4#32
  | 33 => 0xBCB2B521#32
  | 34 => 0xBE05A8A8#32
  | 35 => 0x3E8F45C0#32
  | 36 => 0xBED8616C#32
  | 37 => 0x3F0E39DA#32
  | 38 => 0xBF2CF37B#32
  | 39 => 0x3F47A682#32
  | 40 => 0xBF5DB3D7#32
  | 41 => 0x3F6E9811#32
  | 42 => 0xBF79EE89#32
  | 43 => 0x3F7F73AF#32
  | 44 => 0xBF7F069E#32
  | 45 => 0x3F78A9E0#32
  | 46 => 0xBF6C835E#32
  | 47 => 0x3F5ADB81#32
  | 48 => 0xBF441B7D#32
  | 49 => 0x3F28CAE3#32
  | 50 => 0xBF098C78#32
  | 51 => 0x3ECE34D0#32
  | 52 => 0xBE8483EE#32
  | 53 => 0x3DDEF599#32
  | 54 => 0x3D32AA3E#32
  | 55 => 0xBE47C5C2#32
  | 56 => 0x3EAF1D44#32
  | 57 => 0xBEF64429#32
  | 58 => 0x3F1BD7CA#32
  | 59 => 0xBF38ECD8#32
  | 60 => 0x3F51B3F3#32
  | 61 => 0xBF659974#32
  | 62 => 0x3F7426CB#32
  | 63 => 0xBF7D0543#32
  | 64 => 0x3F800000#32
  | 65 => 0xBF7DCF55#32
  | 66 => 0x3F7746EA#32
  | 67 => 0xBF6C835E#32
  | 68 => 0x3F5DB3D7#32
  | 69 => 0xBF4B1934#32
  | 70 => 0x3F3504F3#32
  | 71 => 0xBF1BD7CA#32
  | 72 => 0x3F000000#32
  | 73 => 0xBEC3EF15#32
  | 74 => 0x3E8483EE#32
  | 75 => 0xBE05A8A8#32
  | 76 => 0xA553C9CA#32
  | 77 => 0x3E05A8A8#32
  | 78 => 0xBE8483EE#32
  | 79 => 0x3EC3EF15#32
  | 80 => 0xBF000000#32
  | 81 => 0x3F1BD7CA#32
  | 82 => 0xBF3504F3#32
  | 83 => 0x3F4B1934#32
  | 84 => 0xBF5DB3D7#32
  | 85 => 0x3F6C835E#32
  | 86 => 0xBF7746EA#32
  | 87 => 0x3F7DCF55#32
  | 88 => 0xBF800000#32
  | 89 => 0x3F7DCF55#32
  | 90 => 0xBF7746EA#32
  | 91 => 0x3F6C835E#32
  | 92 => 0xBF5DB3D7#32
  | 93 => 0x3F4B1934#32
  | 94 => 0xBF3504F3#32
  | 95 => 0x3F1BD7CA#32
  | 96 => 0xBF000000#32
  | 97 => 0x3EC3EF15#32
  | 98 => 0xBE8483EE#32
  | 99 => 0x3E05A8A8#32
  | 100 => 0x248D3132#32
  | 101 => 0xBE05A8A8#32
  | 102 => 0x3E8483EE#32
  | 103 => 0xBEC3EF15#32
  | 104 => 0x3F000000#32
  | 105 => 0xBF1BD7CA#32
  | 106 => 0x3F3504F3#32
  | 107 => 0xBF4B1934#32
  | 108 => 0x3F5DB3D7#32
  | 109 => 0xBF6C835E#32
  | 110 => 0x3F7746EA#32
  | 111 => 0xBF7DCF55#32
  | 112 => 0x3F800000#32
  | 113 => 0xBF7DCF55#32
  | 114 => 0x3F7746EA#32
  | 115 => 0xBF6C835E#32
  | 116 => 0x3F5DB3D7#32
  | 117 => 0xBF4B1934#32
  | 118 => 0x3F3504F3#32
  | 119 => 0xBF1BD7CA#32
  | 120 => 0x3F000000#32
  | 121 => 0xBEC3EF15#32
  | 122 => 0x3E8483EE#32
  | 123 => 0xBE05A8A8#32
  | 124 => 0xA553C9CA#32
  | 125 => 0x3E05A8A8#32
  | 126 => 0xBE8483EE#32
  | 127 => 0x3EC3EF15#32
  | _ => 0#32

noncomputable abbrev lit0t0_311 (i : Nat) : BitVec 32 := match i % 128 with
  | 0 => 0xBF000000#32
  | 1 => 0x3F1BD7CA#32
  | 2 => 0xBF3504F3#32
  | 3 => 0x3F4B1934#32
  | 4 => 0xBF5DB3D7#32
  | 5 => 0x3F6C835E#32
  | 6 => 0xBF7746EA#32
  | 7 => 0x3F7DCF55#32
  | 8 => 0xBF800000#32
  | 9 => 0x3F7DCF55#32
  | 10 => 0xBF7746EA#32
  | 11 => 0x3F6C835E#32
  | 12 => 0xBF5DB3D7#32
  | 13 => 0x3F4B1934#32
  | 14 => 0xBF3504F3#32
  | 15 => 0x3F1BD7CA#32
  | 16 => 0xBF000000#32
  | 17 => 0x3EC3EF15#32
  | 18 => 0xBE8483EE#32
  | 19 => 0x3E05A8A8#32
  | 20 => 0x248D3132#32
  | 21 => 0xBE05A8A8#32
  | 22 => 0x3E8483EE#32
  | 23 => 0xBEC3EF15#32
  | 24 => 0x3F000000#32
  | 25 => 0xBF1BD7CA#32
  | 26 => 0x3F3504F3#32
  | 27 => 0xBF4B1934#32
  | 28 => 0x3F5DB3D7#32
  | 29 => 0xBF6C835E#32
  | 30 => 0x3F7746EA#32
  | 31 => 0xBF7DCF55#32
  | 32 => 0x3F800000#32
  | 33 => 0xBF7DCF55#32
  | 34 => 0x3F7746EA#32
  | 35 => 0xBF6C835E#32
  | 36 => 0x3F5DB3D7#32
  | 37 => 0xBF4B1934#32
  | 38 => 0x3F3504F3#32
  | 39 => 0xBF1BD7CA#32
  | 40 => 0x3F000000#32
  | 41 => 0xBEC3EF15#32
  | 42 => 0x3E8483EE#32
  | 43 => 0xBE05A8A8#32
  | 44 => 0xA553C9CA#32
  | 45 => 0x3E05A8A8#32
  | 46 => 0xBE8483EE#32
  | 47 => 0x3EC3EF15#32
  | 48 => 0xBF000000#32
  | 49 => 0x3F1BD7CA#32
  | 50 => 0xBF3504F3#32
  | 51 => 0x3F4B1934#32
  | 52 => 0xBF5DB3D7#32
  | 53 => 0x3F6C835E#32
  | 54 => 0xBF7746EA#32
  | 55 => 0x3F7DCF55#32
  | 56 => 0xBF800000#32
  | 57 => 0x3F7DCF55#32
  | 58 => 0xBF7746EA#32
  | 59 => 0x3F6C835E#32
  | 60 => 0xBF5DB3D7#32
  | 61 => 0x3F4B1934#32
  | 62 => 0xBF3504F3#32
  | 63 => 0x3F1BD7CA#32
  | 64 => 0xBF000000#32
  | 65 => 0x3EC3EF15#32
  | 66 => 0xBE8483EE#32
  | 67 => 0x3E05A8A8#32
  | 68 => 0x248D3132#32
  | 69 => 0xBE05A8A8#32
  | 70 => 0x3E8483EE#32
  | 71 => 0xBEC3EF15#32
  | 72 => 0x3F000000#32
  | 73 => 0xBF1BD7CA#32
  | 74 => 0x3F3504F3#32
  | 75 => 0xBF4B1934#32
  | 76 => 0x3F5DB3D7#32
  | 77 => 0xBF6C835E#32
  | 78 => 0x3F7746EA#32
  | 79 => 0xBF7DCF55#32
  | 80 => 0x3F800000#32
  | 81 => 0xBF7DCF55#32
  | 82 => 0x3F7746EA#32
  | 83 => 0xBF6C835E#32
  | 84 => 0x3F5DB3D7#32
  | 85 => 0xBF4B1934#32
  | 86 => 0x3F3504F3#32
  | 87 => 0xBF1BD7CA#32
  | 88 => 0x3F000000#32
  | 89 => 0xBEC3EF15#32
  | 90 => 0x3E8483EE#32
  | 91 => 0xBE05A8A8#32
  | 92 => 0xA553C9CA#32
  | 93 => 0x3E05A8A8#32
  | 94 => 0xBE8483EE#32
  | 95 => 0x3EC3EF15#32
  | 96 => 0xBF000000#32
  | 97 => 0x3F1BD7CA#32
  | 98 => 0xBF3504F3#32
  | 99 => 0x3F4B1934#32
  | 100 => 0xBF5DB3D7#32
  | 101 => 0x3F6C835E#32
  | 102 => 0xBF7746EA#32
  | 103 => 0x3F7DCF55#32
  | 104 => 0xBF800000#32
  | 105 => 0x3F7DCF55#32
  | 106 => 0xBF7746EA#32
  | 107 => 0x3F6C835E#32
  | 108 => 0xBF5DB3D7#32
  | 109 => 0x3F4B1934#32
  | 110 => 0xBF3504F3#32
  | 111 => 0x3F1BD7CA#32
  | 112 => 0xBF000000#32
  | 113 => 0x3EC3EF15#32
  | 114 => 0xBE8483EE#32
  | 115 => 0x3E05A8A8#32
  | 116 => 0x248D3132#32
  | 117 => 0xBE05A8A8#32
  | 118 => 0x3E8483EE#32
  | 119 => 0xBEC3EF15#32
  | 120 => 0x3F000000#32
  | 121 => 0xBF1BD7CA#32
  | 122 => 0x3F3504F3#32
  | 123 => 0xBF4B1934#32
  | 124 => 0x3F5DB3D7#32
  | 125 => 0xBF6C835E#32
  | 126 => 0x3F7746EA#32
  | 127 => 0xBF7DCF55#32
  | _ => 0#32

noncomputable abbrev lit0t0_312 (i : Nat) : BitVec 32 := match i % 128 with
  | 0 => 0x3F800000#32
  | 1 => 0xBF7DCF55#32
  | 2 => 0x3F7746EA#32
  | 3 => 0xBF6C835E#32
  | 4 => 0x3F5DB3D7#32
  | 5 => 0xBF4B1934#32
  | 6 => 0x3F3504F3#32
  | 7 => 0xBF1BD7CA#32
  | 8 => 0x3F000000#32
  | 9 => 0xBEC3EF15#32
  | 10 => 0x3E8483EE#32
  | 11 => 0xBE05A8A8#32
  | 12 => 0xA553C9CA#32
  | 13 => 0x3E05A8A8#32
  | 14 => 0xBE8483EE#32
  | 15 => 0x3EC3EF15#32
  | 16 => 0xBF000000#32
  | 17 => 0x3F1BD7CA#32
  | 18 => 0xBF3504F3#32
  | 19 => 0x3F4B1934#32
  | 20 => 0xBF5DB3D7#32
  | 21 => 0x3F6C835E#32
  | 22 => 0xBF7746EA#32
  | 23 => 0x3F7DCF55#32
  | 24 => 0xBF800000#32
  | 25 => 0x3F7DCF55#32
  | 26 => 0xBF7746EA#32
  | 27 => 0x3F6C835E#32
  | 28 => 0xBF5DB3D7#32
  | 29 => 0x3F4B1934#32
  | 30 => 0xBF3504F3#32
  | 31 => 0x3F1BD7CA#32
  | 32 => 0xBF000000#32
  | 33 => 0x3EC3EF15#32
  | 34 => 0xBE8483EE#32
  | 35 => 0x3E05A8A8#32
  | 36 => 0x248D3132#32
  | 37 => 0xBE05A8A8#32
  | 38 => 0x3E8483EE#32
  | 39 => 0xBEC3EF15#32
  | 40 => 0x3F000000#32
  | 41 => 0xBF1BD7CA#32
  | 42 => 0x3F3504F3#32
  | 43 => 0xBF4B1934#32
  | 44 => 0x3F5DB3D7#32
  | 45 => 0xBF6C835E#32
  | 46 => 0x3F7746EA#32
  | 47 => 0xBF7DCF55#32
  | 48 => 0x3F800000#32
  | 49 => 0xBF7DCF55#32
  | 50 => 0x3F7746EA#32
  | 51 => 0xBF6C835E#32
  | 52 => 0x3F5DB3D7#32
  | 53 => 0xBF4B1934#32
  | 54 => 0x3F3504F3#32
  | 55 => 0xBF1BD7CA#32
  | 56 => 0x3F000000#32
  | 57 => 0xBEC3EF15#32
  | 58 => 0x3E8483EE#32
  | 59 => 0xBE05A8A8#32
  | 60 => 0xA553C9CA#32
  | 61 => 0x3E05A8A8#32
  | 62 => 0xBE8483EE#32
  | 63 => 0x3EC3EF15#32
  | 64 => 0xBF000000#32
  | 65 => 0x3F1BD7CA#32
  | 66 => 0xBF3504F3#32
  | 67 => 0x3F4B1934#32
  | 68 => 0xBF5DB3D7#32
  | 69 => 0x3F6C835E#32
  | 70 => 0xBF7746EA#32
  | 71 => 0x3F7DCF55#32
  | 72 => 0xBF800000#32
  | 73 => 0x3F7DCF55#32
  | 74 => 0xBF7746EA#32
  | 75 => 0x3F6C835E#32
  | 76 => 0xBF5DB3D7#32
  | 77 => 0x3F4B1934#32
  | 78 => 0xBF3504F3#32
  | 79 => 0x3F1BD7CA#32
  | 80 => 0xBF000000#32
  | 81 => 0x3EC3EF15#32
  | 82 => 0xBE8483EE#32
  | 83 => 0x3E05A8A8#32
  | 84 => 0x248D3132#32
  | 85 => 0xBE05A8A8#32
  | 86 => 0x3E8483EE#32
  | 87 => 0xBEC3EF15#32
  | 88 => 0x3F000000#32
  | 89 => 0xBF1BD7CA#32
  | 90 => 0x3F3504F3#32
  | 91 => 0xBF4B1934#32
  | 92 => 0x3F5DB3D7#32
  | 93 => 0xBF6C835E#32
  | 94 => 0x3F7746EA#32
  | 95 => 0xBF7DCF55#32
  | 96 => 0x3F800000#32
  | 97 => 0xBF7E7A7A#32
  | 98 => 0x3F79EE89#32
  | 99 => 0xBF726A03#32
  | 100 => 0x3F6803CA#32
  | 101 => 0xBF5ADB81#32
  | 102 => 0x3F4B1934#32
  | 103 => 0xBF38ECD8#32
  | 104 => 0x3F248DBB#32
  | 105 => 0xBF0E39DA#32
  | 106 => 0x3EEC6A50#32
  | 107 => 0xBEB9917B#32
  | 108 => 0x3E8483EE#32
  | 109 => 0xBE1BC63C#32
  | 110 => 0x3D32AA3E#32
  | 111 => 0x3D85F213#32
  | 112 => 0xBE31D0D4#32
  | 113 => 0x3E8F45C0#32
  | 114 => 0xBEC3EF15#32
  | 115 => 0x3EF64429#32
  | 116 => 0xBF12D5E8#32
  | 117 => 0x3F28CAE3#32
  | 118 => 0xBF3CBE35#32
  | 119 => 0x3F4E7327#32
  | 120 => 0xBF5DB3D7#32
  | 121 => 0x3F6A51DA#32
  | 122 => 0xBF7426CB#32
  | 123 => 0x3F7B14BE#32
  | 124 => 0xBF7F069E#32
  | 125 => 0x3F7FF067#32
  | 126 => 0xBF7DCF55#32
  | 127 => 0x3F78A9E0#32
  | _ => 0#32

noncomputable abbrev lit0t0_313 (i : Nat) : BitVec 32 := match i % 128 with
  | 0 => 0xBF708FB2#32
  | 1 => 0x3F659974#32
  | 2 => 0xBF57E880#32
  | 3 => 0x3F47A682#32
  | 4 => 0xBF3504F3#32
  | 5 => 0x3F203C85#32
  | 6 => 0xBF098C78#32
  | 7 => 0x3EE273AA#32
  | 8 => 0xBEAF1D44#32
  | 9 => 0x3E7363EE#32
  | 10 => 0xBE05A8A8#32
  | 11 => 0x3CB2B521#32
  | 12 => 0x3DB27EB6#32
  | 13 => 0xBE47C5C2#32
  | 14 => 0x3E99F61C#32
  | 15 => 0xBECE34D0#32
  | 16 => 0x3F000000#32
  | 17 => 0xBF176012#32
  | 18 => 0x3F2CF37B#32
  | 19 => 0xBF407893#32
  | 20 => 0x3F51B3F3#32
  | 21 => 0xBF60712A#32
  | 22 => 0x3F6C835E#32
  | 23 => 0xBF75C5D4#32
  | 24 => 0x3F7C1C5C#32
  | 25 => 0xBF7F73AF#32
  | 26 => 0x3F7FC1A0#32
  | 27 => 0xBF7D0543#32
  | 28 => 0x3F7746EA#32
  | 29 => 0xBF6E9811#32
  | 30 => 0x3F631324#32
  | 31 => 0xBF54DB31#32
  | 32 => 0x3F441B7D#32
  | 33 => 0xBF310700#32
  | 34 => 0x3F1BD7CA#32
  | 35 => 0xBF04CE53#32
  | 36 => 0x3ED8616C#32
  | 37 => 0xBEA493B7#32
  | 38 => 0x3E5DA259#32
  | 39 => 0xBDDEF599#32
  | 40 => 0xA553C9CA#32
  | 41 => 0x3DDEF599#32
  | 42 => 0xBE5DA259#32
  | 43 => 0x3EA493B7#32
  | 44 => 0xBED8616C#32
  | 45 => 0x3F04CE53#32
  | 46 => 0xBF1BD7CA#32
  | 47 => 0x3F310700#32
  | 48 => 0xBF441B7D#32
  | 49 => 0x3F54DB31#32
  | 50 => 0xBF631324#32
  | 51 => 0x3F6E9811#32
  | 52 => 0xBF7746EA#32
  | 53 => 0x3F7D0543#32
  | 54 => 0xBF7FC1A0#32
  | 55 => 0x3F7F73AF#32
  | 56 => 0xBF7C1C5C#32
  | 57 => 0x3F75C5D4#32
  | 58 => 0xBF6C835E#32
  | 59 => 0x3F60712A#32
  | 60 => 0xBF51B3F3#32
  | 61 => 0x3F407893#32
  | 62 => 0xBF2CF37B#32
  | 63 => 0x3F176012#32
  | 64 => 0xBF000000#32
  | 65 => 0x3ECE34D0#32
  | 66 => 0xBE99F61C#32
  | 67 => 0x3E47C5C2#32
  | 68 => 0xBDB27EB6#32
  | 69 => 0xBCB2B521#32
  | 70 => 0x3E05A8A8#32
  | 71 => 0xBE7363EE#32
  | 72 => 0x3EAF1D44#32
  | 73 => 0xBEE273AA#32
  | 74 => 0x3F098C78#32
  | 75 => 0xBF203C85#32
  | 76 => 0x3F3504F3#32
  | 77 => 0xBF47A682#32
  | 78 => 0x3F57E880#32
  | 79 => 0xBF659974#32
  | 80 => 0x3F708FB2#32
  | 81 => 0xBF78A9E0#32
  | 82 => 0x3F7DCF55#32
  | 83 => 0xBF7FF067#32
  | 84 => 0x3F7F069E#32
  | 85 => 0xBF7B14BE#32
  | 86 => 0x3F7426CB#32
  | 87 => 0xBF6A51DA#32
  | 88 => 0x3F5DB3D7#32
  | 89 => 0xBF4E7327#32
  | 90 => 0x3F3CBE35#32
  | 91 => 0xBF28CAE3#32
  | 92 => 0x3F12D5E8#32
  | 93 => 0xBEF64429#32
  | 94 => 0x3EC3EF15#32
  | 95 => 0xBE8F45C0#32
  | 96 => 0x3E31D0D4#32
  | 97 => 0xBD85F213#32
  | 98 => 0xBD32AA3E#32
  | 99 => 0x3E1BC63C#32
  | 100 => 0xBE8483EE#32
  | 101 => 0x3EB9917B#32
  | 102 => 0xBEEC6A50#32
  | 103 => 0x3F0E39DA#32
  | 104 => 0xBF248DBB#32
  | 105 => 0x3F38ECD8#32
  | 106 => 0xBF4B1934#32
  | 107 => 0x3F5ADB81#32
  | 108 => 0xBF6803CA#32
  | 109 => 0x3F726A03#32
  | 110 => 0xBF79EE89#32
  | 111 => 0x3F7E7A7A#32
  | 112 => 0xBF800000#32
  | 113 => 0x3F7E7A7A#32
  | 114 => 0xBF79EE89#32
  | 115 => 0x3F726A03#32
  | 116 => 0xBF6803CA#32
  | 117 => 0x3F5ADB81#32
  | 118 => 0xBF4B1934#32
  | 119 => 0x3F38ECD8#32
  | 120 => 0xBF248DBB#32
  | 121 => 0x3F0E39DA#32
  | 122 => 0xBEEC6A50#32
  | 123 => 0x3EB9917B#32
  | 124 => 0xBE8483EE#32
  | 125 => 0x3E1BC63C#32
  | 126 => 0xBD32AA3E#32
  | 127 => 0xBD85F213#32
  | _ => 0#32

noncomputable abbrev lit0t0_314 (i : Nat) : BitVec 32 := match i % 128 with
  | 0 => 0x3E31D0D4#32
  | 1 => 0xBE8F45C0#32
  | 2 => 0x3EC3EF15#32
  | 3 => 0xBEF64429#32
  | 4 => 0x3F12D5E8#32
  | 5 => 0xBF28CAE3#32
  | 6 => 0x3F3CBE35#32
  | 7 => 0xBF4E7327#32
  | 8 => 0x3F5DB3D7#32
  | 9 => 0xBF6A51DA#32
  | 10 => 0x3F7426CB#32
  | 11 => 0xBF7B14BE#32
  | 12 => 0x3F7F069E#32
  | 13 => 0xBF7FF067#32
  | 14 => 0x3F7DCF55#32
  | 15 => 0xBF78A9E0#32
  | 16 => 0x3F708FB2#32
  | 17 => 0xBF659974#32
  | 18 => 0x3F57E880#32
  | 19 => 0xBF47A682#32
  | 20 => 0x3F3504F3#32
  | 21 => 0xBF203C85#32
  | 22 => 0x3F098C78#32
  | 23 => 0xBEE273AA#32
  | 24 => 0x3EAF1D44#32
  | 25 => 0xBE7363EE#32
  | 26 => 0x3E05A8A8#32
  | 27 => 0xBCB2B521#32
  | 28 => 0xBDB27EB6#32
  | 29 => 0x3E47C5C2#32
  | 30 => 0xBE99F61C#32
  | 31 => 0x3ECE34D0#32
  | 32 => 0xBF000000#32
  | 33 => 0x3F176012#32
  | 34 => 0xBF2CF37B#32
  | 35 => 0x3F407893#32
  | 36 => 0xBF51B3F3#32
  | 37 => 0x3F60712A#32
  | 38 => 0xBF6C835E#32
  | 39 => 0x3F75C5D4#32
  | 40 => 0xBF7C1C5C#32
  | 41 => 0x3F7F73AF#32
  | 42 => 0xBF7FC1A0#32
  | 43 => 0x3F7D0543#32
  | 44 => 0xBF7746EA#32
  | 45 => 0x3F6E9811#32
  | 46 => 0xBF631324#32
  | 47 => 0x3F54DB31#32
  | 48 => 0xBF441B7D#32
  | 49 => 0x3F310700#32
  | 50 => 0xBF1BD7CA#32
  | 51 => 0x3F04CE53#32
  | 52 => 0xBED8616C#32
  | 53 => 0x3EA493B7#32
  | 54 => 0xBE5DA259#32
  | 55 => 0x3DDEF599#32
  | 56 => 0x248D3132#32
  | 57 => 0xBDDEF599#32
  | 58 => 0x3E5DA259#32
  | 59 => 0xBEA493B7#32
  | 60 => 0x3ED8616C#32
  | 61 => 0xBF04CE53#32
  | 62 => 0x3F1BD7CA#32
  | 63 => 0xBF310700#32
  | 64 => 0x3F441B7D#32
  | 65 => 0xBF54DB31#32
  | 66 => 0x3F631324#32
  | 67 => 0xBF6E9811#32
  | 68 => 0x3F7746EA#32
  | 69 => 0xBF7D0543#32
  | 70 => 0x3F7FC1A0#32
  | 71 => 0xBF7F73AF#32
  | 72 => 0x3F7C1C5C#32
  | 73 => 0xBF75C5D4#32
  | 74 => 0x3F6C835E#32
  | 75 => 0xBF60712A#32
  | 76 => 0x3F51B3F3#32
  | 77 => 0xBF407893#32
  | 78 => 0x3F2CF37B#32
  | 79 => 0xBF176012#32
  | 80 => 0x3F000000#32
  | 81 => 0xBECE34D0#32
  | 82 => 0x3E99F61C#32
  | 83 => 0xBE47C5C2#32
  | 84 => 0x3DB27EB6#32
  | 85 => 0x3CB2B521#32
  | 86 => 0xBE05A8A8#32
  | 87 => 0x3E7363EE#32
  | 88 => 0xBEAF1D44#32
  | 89 => 0x3EE273AA#32
  | 90 => 0xBF098C78#32
  | 91 => 0x3F203C85#32
  | 92 => 0xBF3504F3#32
  | 93 => 0x3F47A682#32
  | 94 => 0xBF57E880#32
  | 95 => 0x3F659974#32
  | 96 => 0xBF708FB2#32
  | 97 => 0x3F78A9E0#32
  | 98 => 0xBF7DCF55#32
  | 99 => 0x3F7FF067#32
  | 100 => 0xBF7F069E#32
  | 101 => 0x3F7B14BE#32
  | 102 => 0xBF7426CB#32
  | 103 => 0x3F6A51DA#32
  | 104 => 0xBF5DB3D7#32
  | 105 => 0x3F4E7327#32
  | 106 => 0xBF3CBE35#32
  | 107 => 0x3F28CAE3#32
  | 108 => 0xBF12D5E8#32
  | 109 => 0x3EF64429#32
  | 110 => 0xBEC3EF15#32
  | 111 => 0x3E8F45C0#32
  | 112 => 0xBE31D0D4#32
  | 113 => 0x3D85F213#32
  | 114 => 0x3D32AA3E#32
  | 115 => 0xBE1BC63C#32
  | 116 => 0x3E8483EE#32
  | 117 => 0xBEB9917B#32
  | 118 => 0x3EEC6A50#32
  | 119 => 0xBF0E39DA#32
  | 120 => 0x3F248DBB#32
  | 121 => 0xBF38ECD8#32
  | 122 => 0x3F4B1934#32
  | 123 => 0xBF5ADB81#32
  | 124 => 0x3F6803CA#32
  | 125 => 0xBF726A03#32
  | 126 => 0x3F79EE89#32
  | 127 => 0xBF7E7A7A#32
  | _ => 0#32

noncomputable abbrev lit0t0_315 (i : Nat) : BitVec 32 := match i % 128 with
  | 0 => 0x3F800000#32
  | 1 => 0xBF7F069E#32
  | 2 => 0x3F7C1C5C#32
  | 3 => 0xBF7746EA#32
  | 4 => 0x3F708FB2#32
  | 5 => 0xBF6803CA#32
  | 6 => 0x3F5DB3D7#32
  | 7 => 0xBF51B3F3#32
  | 8 => 0x3F441B7D#32
  | 9 => 0xBF3504F3#32
  | 10 => 0x3F248DBB#32
  | 11 => 0xBF12D5E8#32
  | 12 => 0x3F000000#32
  | 13 => 0xBED8616C#32
  | 14 => 0x3EAF1D44#32
  | 15 => 0xBE8483EE#32
  | 16 => 0x3E31D0D4#32
  | 17 => 0xBDB27EB6#32
  | 18 => 0xA553C9CA#32
  | 19 => 0x3DB27EB6#32
  | 20 => 0xBE31D0D4#32
  | 21 => 0x3E8483EE#32
  | 22 => 0xBEAF1D44#32
  | 23 => 0x3ED8616C#32
  | 24 => 0xBF000000#32
  | 25 => 0x3F12D5E8#32
  | 26 => 0xBF248DBB#32
  | 27 => 0x3F3504F3#32
  | 28 => 0xBF441B7D#32
  | 29 => 0x3F51B3F3#32
  | 30 => 0xBF5DB3D7#32
  | 31 => 0x3F6803CA#32
  | 32 => 0xBF708FB2#32
  | 33 => 0x3F7746EA#32
  | 34 => 0xBF7C1C5C#32
  | 35 => 0x3F7F069E#32
  | 36 => 0xBF800000#32
  | 37 => 0x3F7F069E#32
  | 38 => 0xBF7C1C5C#32
  | 39 => 0x3F7746EA#32
  | 40 => 0xBF708FB2#32
  | 41 => 0x3F6803CA#32
  | 42 => 0xBF5DB3D7#32
  | 43 => 0x3F51B3F3#32
  | 44 => 0xBF441B7D#32
  | 45 => 0x3F3504F3#32
  | 46 => 0xBF248DBB#32
  | 47 => 0x3F12D5E8#32
  | 48 => 0xBF000000#32
  | 49 => 0x3ED8616C#32
  | 50 => 0xBEAF1D44#32
  | 51 => 0x3E8483EE#32
  | 52 => 0xBE31D0D4#32
  | 53 => 0x3DB27EB6#32
  | 54 => 0x248D3132#32
  | 55 => 0xBDB27EB6#32
  | 56 => 0x3E31D0D4#32
  | 57 => 0xBE8483EE#32
  | 58 => 0x3EAF1D44#32
  | 59 => 0xBED8616C#32
  | 60 => 0x3F000000#32
  | 61 => 0xBF12D5E8#32
  | 62 => 0x3F248DBB#32
  | 63 => 0xBF3504F3#32
  | 64 => 0x3F441B7D#32
  | 65 => 0xBF51B3F3#32
  | 66 => 0x3F5DB3D7#32
  | 67 => 0xBF6803CA#32
  | 68 => 0x3F708FB2#32
  | 69 => 0xBF7746EA#32
  | 70 => 0x3F7C1C5C#32
  | 71 => 0xBF7F069E#32
  | 72 => 0x3F800000#32
  | 73 => 0xBF7F069E#32
  | 74 => 0x3F7C1C5C#32
  | 75 => 0xBF7746EA#32
  | 76 => 0x3F708FB2#32
  | 77 => 0xBF6803CA#32
  | 78 => 0x3F5DB3D7#32
  | 79 => 0xBF51B3F3#32
  | 80 => 0x3F441B7D#32
  | 81 => 0xBF3504F3#32
  | 82 => 0x3F248DBB#32
  | 83 => 0xBF12D5E8#32
  | 84 => 0x3F000000#32
  | 85 => 0xBED8616C#32
  | 86 => 0x3EAF1D44#32
  | 87 => 0xBE8483EE#32
  | 88 => 0x3E31D0D4#32
  | 89 => 0xBDB27EB6#32
  | 90 => 0xA553C9CA#32
  | 91 => 0x3DB27EB6#32
  | 92 => 0xBE31D0D4#32
  | 93 => 0x3E8483EE#32
  | 94 => 0xBEAF1D44#32
  | 95 => 0x3ED8616C#32
  | 96 => 0xBF000000#32
  | 97 => 0x3F12D5E8#32
  | 98 => 0xBF248DBB#32
  | 99 => 0x3F3504F3#32
  | 100 => 0xBF441B7D#32
  | 101 => 0x3F51B3F3#32
  | 102 => 0xBF5DB3D7#32
  | 103 => 0x3F6803CA#32
  | 104 => 0xBF708FB2#32
  | 105 => 0x3F7746EA#32
  | 106 => 0xBF7C1C5C#32
  | 107 => 0x3F7F069E#32
  | 108 => 0xBF800000#32
  | 109 => 0x3F7F069E#32
  | 110 => 0xBF7C1C5C#32
  | 111 => 0x3F7746EA#32
  | 112 => 0xBF708FB2#32
  | 113 => 0x3F6803CA#32
  | 114 => 0xBF5DB3D7#32
  | 115 => 0x3F51B3F3#32
  | 116 => 0xBF441B7D#32
  | 117 => 0x3F3504F3#32
  | 118 => 0xBF248DBB#32
  | 119 => 0x3F12D5E8#32
  | 120 => 0xBF000000#32
  | 121 => 0x3ED8616C#32
  | 122 => 0xBEAF1D44#32
  | 123 => 0x3E8483EE#32
  | 124 => 0xBE31D0D4#32
  | 125 => 0x3DB27EB6#32
  | 126 => 0x248D3132#32
  | 127 => 0xBDB27EB6#32
  | _ => 0#32

noncomputable abbrev lit0t0_316 (i : Nat) : BitVec 32 := match i % 128 with
  | 0 => 0x3E31D0D4#32
  | 1 => 0xBE8483EE#32
  | 2 => 0x3EAF1D44#32
  | 3 => 0xBED8616C#32
  | 4 => 0x3F000000#32
  | 5 => 0xBF12D5E8#32
  | 6 => 0x3F248DBB#32
  | 7 => 0xBF3504F3#32
  | 8 => 0x3F441B7D#32
  | 9 => 0xBF51B3F3#32
  | 10 => 0x3F5DB3D7#32
  | 11 => 0xBF6803CA#32
  | 12 => 0x3F708FB2#32
  | 13 => 0xBF7746EA#32
  | 14 => 0x3F7C1C5C#32
  | 15 => 0xBF7F069E#32
  | 16 => 0x3F800000#32
  | 17 => 0xBF7F069E#32
  | 18 => 0x3F7C1C5C#32
  | 19 => 0xBF7746EA#32
  | 20 => 0x3F708FB2#32
  | 21 => 0xBF6803CA#32
  | 22 => 0x3F5DB3D7#32
  | 23 => 0xBF51B3F3#32
  | 24 => 0x3F441B7D#32
  | 25 => 0xBF3504F3#32
  | 26 => 0x3F248DBB#32
  | 27 => 0xBF12D5E8#32
  | 28 => 0x3F000000#32
  | 29 => 0xBED8616C#32
  | 30 => 0x3EAF1D44#32
  | 31 => 0xBE8483EE#32
  | 32 => 0x3E31D0D4#32
  | 33 => 0xBDB27EB6#32
  | 34 => 0xA553C9CA#32
  | 35 => 0x3DB27EB6#32
  | 36 => 0xBE31D0D4#32
  | 37 => 0x3E8483EE#32
  | 38 => 0xBEAF1D44#32
  | 39 => 0x3ED8616C#32
  | 40 => 0xBF000000#32
  | 41 => 0x3F12D5E8#32
  | 42 => 0xBF248DBB#32
  | 43 => 0x3F3504F3#32
  | 44 => 0xBF441B7D#32
  | 45 => 0x3F51B3F3#32
  | 46 => 0xBF5DB3D7#32
  | 47 => 0x3F6803CA#32
  | 48 => 0xBF708FB2#32
  | 49 => 0x3F7746EA#32
  | 50 => 0xBF7C1C5C#32
  | 51 => 0x3F7F069E#32
  | 52 => 0xBF800000#32
  | 53 => 0x3F7F069E#32
  | 54 => 0xBF7C1C5C#32
  | 55 => 0x3F7746EA#32
  | 56 => 0xBF708FB2#32
  | 57 => 0x3F6803CA#32
  | 58 => 0xBF5DB3D7#32
  | 59 => 0x3F51B3F3#32
  | 60 => 0xBF441B7D#32
  | 61 => 0x3F3504F3#32
  | 62 => 0xBF248DBB#32
  | 63 => 0x3F12D5E8#32
  | 64 => 0xBF000000#32
  | 65 => 0x3ED8616C#32
  | 66 => 0xBEAF1D44#32
  | 67 => 0x3E8483EE#32
  | 68 => 0xBE31D0D4#32
  | 69 => 0x3DB27EB6#32
  | 70 => 0x248D3132#32
  | 71 => 0xBDB27EB6#32
  | 72 => 0x3E31D0D4#32
  | 73 => 0xBE8483EE#32
  | 74 => 0x3EAF1D44#32
  | 75 => 0xBED8616C#32
  | 76 => 0x3F000000#32
  | 77 => 0xBF12D5E8#32
  | 78 => 0x3F248DBB#32
  | 79 => 0xBF3504F3#32
  | 80 => 0x3F441B7D#32
  | 81 => 0xBF51B3F3#32
  | 82 => 0x3F5DB3D7#32
  | 83 => 0xBF6803CA#32
  | 84 => 0x3F708FB2#32
  | 85 => 0xBF7746EA#32
  | 86 => 0x3F7C1C5C#32
  | 87 => 0xBF7F069E#32
  | 88 => 0x3F800000#32
  | 89 => 0xBF7F069E#32
  | 90 => 0x3F7C1C5C#32
  | 91 => 0xBF7746EA#32
  | 92 => 0x3F708FB2#32
  | 93 => 0xBF6803CA#32
  | 94 => 0x3F5DB3D7#32
  | 95 => 0xBF51B3F3#32
  | 96 => 0x3F441B7D#32
  | 97 => 0xBF3504F3#32
  | 98 => 0x3F248DBB#32
  | 99 => 0xBF12D5E8#32
  | 100 => 0x3F000000#32
  | 101 => 0xBED8616C#32
  | 102 => 0x3EAF1D44#32
  | 103 => 0xBE8483EE#32
  | 104 => 0x3E31D0D4#32
  | 105 => 0xBDB27EB6#32
  | 106 => 0xA553C9CA#32
  | 107 => 0x3DB27EB6#32
  | 108 => 0xBE31D0D4#32
  | 109 => 0x3E8483EE#32
  | 110 => 0xBEAF1D44#32
  | 111 => 0x3ED8616C#32
  | 112 => 0xBF000000#32
  | 113 => 0x3F12D5E8#32
  | 114 => 0xBF248DBB#32
  | 115 => 0x3F3504F3#32
  | 116 => 0xBF441B7D#32
  | 117 => 0x3F51B3F3#32
  | 118 => 0xBF5DB3D7#32
  | 119 => 0x3F6803CA#32
  | 120 => 0xBF708FB2#32
  | 121 => 0x3F7746EA#32
  | 122 => 0xBF7C1C5C#32
  | 123 => 0x3F7F069E#32
  | 124 => 0xBF800000#32
  | 125 => 0x3F7F069E#32
  | 126 => 0xBF7C1C5C#32
  | 127 => 0x3F7746EA#32
  | _ => 0#32

noncomputable abbrev lit0t0_317 (i : Nat) : BitVec 32 := match i % 128 with
  | 0 => 0xBF708FB2#32
  | 1 => 0x3F6803CA#32
  | 2 => 0xBF5DB3D7#32
  | 3 => 0x3F51B3F3#32
  | 4 => 0xBF441B7D#32
  | 5 => 0x3F3504F3#32
  | 6 => 0xBF248DBB#32
  | 7 => 0x3F12D5E8#32
  | 8 => 0xBF000000#32
  | 9 => 0x3ED8616C#32
  | 10 => 0xBEAF1D44#32
  | 11 => 0x3E8483EE#32
  | 12 => 0xBE31D0D4#32
  | 13 => 0x3DB27EB6#32
  | 14 => 0x248D3132#32
  | 15 => 0xBDB27EB6#32
  | 16 => 0x3E31D0D4#32
  | 17 => 0xBE8483EE#32
  | 18 => 0x3EAF1D44#32
  | 19 => 0xBED8616C#32
  | 20 => 0x3F000000#32
  | 21 => 0xBF12D5E8#32
  | 22 => 0x3F248DBB#32
  | 23 => 0xBF3504F3#32
  | 24 => 0x3F441B7D#32
  | 25 => 0xBF51B3F3#32
  | 26 => 0x3F5DB3D7#32
  | 27 => 0xBF6803CA#32
  | 28 => 0x3F708FB2#32
  | 29 => 0xBF7746EA#32
  | 30 => 0x3F7C1C5C#32
  | 31 => 0xBF7F069E#32
  | 32 => 0x3F800000#32
  | 33 => 0xBF7F73AF#32
  | 34 => 0x3F7DCF55#32
  | 35 => 0xBF7B14BE#32
  | 36 => 0x3F7746EA#32
  | 37 => 0xBF726A03#32
  | 38 => 0x3F6C835E#32
  | 39 => 0xBF659974#32
  | 40 => 0x3F5DB3D7#32
  | 41 => 0xBF54DB31#32
  | 42 => 0x3F4B1934#32
  | 43 => 0xBF407893#32
  | 44 => 0x3F3504F3#32
  | 45 => 0xBF28CAE3#32
  | 46 => 0x3F1BD7CA#32
  | 47 => 0xBF0E39DA#32
  | 48 => 0x3F000000#32
  | 49 => 0xBEE273AA#32
  | 50 => 0x3EC3EF15#32
  | 51 => 0xBEA493B7#32
  | 52 => 0x3E8483EE#32
  | 53 => 0xBE47C5C2#32
  | 54 => 0x3E05A8A8#32
  | 55 => 0xBD85F213#32
  | 56 => 0xA553C9CA#32
  | 57 => 0x3D85F213#32
  | 58 => 0xBE05A8A8#32
  | 59 => 0x3E47C5C2#32
  | 60 => 0xBE8483EE#32
  | 61 => 0x3EA493B7#32
  | 62 => 0xBEC3EF15#32
  | 63 => 0x3EE273AA#32
  | 64 => 0xBF000000#32
  | 65 => 0x3F0E39DA#32
  | 66 => 0xBF1BD7CA#32
  | 67 => 0x3F28CAE3#32
  | 68 => 0xBF3504F3#32
  | 69 => 0x3F407893#32
  | 70 => 0xBF4B1934#32
  | 71 => 0x3F54DB31#32
  | 72 => 0xBF5DB3D7#32
  | 73 => 0x3F659974#32
  | 74 => 0xBF6C835E#32
  | 75 => 0x3F726A03#32
  | 76 => 0xBF7746EA#32
  | 77 => 0x3F7B14BE#32
  | 78 => 0xBF7DCF55#32
  | 79 => 0x3F7F73AF#32
  | 80 => 0xBF800000#32
  | 81 => 0x3F7F73AF#32
  | 82 => 0xBF7DCF55#32
  | 83 => 0x3F7B14BE#32
  | 84 => 0xBF7746EA#32
  | 85 => 0x3F726A03#32
  | 86 => 0xBF6C835E#32
  | 87 => 0x3F659974#32
  | 88 => 0xBF5DB3D7#32
  | 89 => 0x3F54DB31#32
  | 90 => 0xBF4B1934#32
  | 91 => 0x3F407893#32
  | 92 => 0xBF3504F3#32
  | 93 => 0x3F28CAE3#32
  | 94 => 0xBF1BD7CA#32
  | 95 => 0x3F0E39DA#32
  | 96 => 0xBF000000#32
  | 97 => 0x3EE273AA#32
  | 98 => 0xBEC3EF15#32
  | 99 => 0x3EA493B7#32
  | 100 => 0xBE8483EE#32
  | 101 => 0x3E47C5C2#32
  | 102 => 0xBE05A8A8#32
  | 103 => 0x3D85F213#32
  | 104 => 0x248D3132#32
  | 105 => 0xBD85F213#32
  | 106 => 0x3E05A8A8#32
  | 107 => 0xBE47C5C2#32
  | 108 => 0x3E8483EE#32
  | 109 => 0xBEA493B7#32
  | 110 => 0x3EC3EF15#32
  | 111 => 0xBEE273AA#32
  | 112 => 0x3F000000#32
  | 113 => 0xBF0E39DA#32
  | 114 => 0x3F1BD7CA#32
  | 115 => 0xBF28CAE3#32
  | 116 => 0x3F3504F3#32
  | 117 => 0xBF407893#32
  | 118 => 0x3F4B1934#32
  | 119 => 0xBF54DB31#32
  | 120 => 0x3F5DB3D7#32
  | 121 => 0xBF659974#32
  | 122 => 0x3F6C835E#32
  | 123 => 0xBF726A03#32
  | 124 => 0x3F7746EA#32
  | 125 => 0xBF7B14BE#32
  | 126 => 0x3F7DCF55#32
  | 127 => 0xBF7F73AF#32
  | _ => 0#32

noncomputable abbrev lit0t0_318 (i : Nat) : BitVec 32 := match i % 128 with
  | 0 => 0x3F800000#32
  | 1 => 0xBF7F73AF#32
  | 2 => 0x3F7DCF55#32
  | 3 => 0xBF7B14BE#32
  | 4 => 0x3F7746EA#32
  | 5 => 0xBF726A03#32
  | 6 => 0x3F6C835E#32
  | 7 => 0xBF659974#32
  | 8 => 0x3F5DB3D7#32
  | 9 => 0xBF54DB31#32
  | 10 => 0x3F4B1934#32
  | 11 => 0xBF407893#32
  | 12 => 0x3F3504F3#32
  | 13 => 0xBF28CAE3#32
  | 14 => 0x3F1BD7CA#32
  | 15 => 0xBF0E39DA#32
  | 16 => 0x3F000000#32
  | 17 => 0xBEE273AA#32
  | 18 => 0x3EC3EF15#32
  | 19 => 0xBEA493B7#32
  | 20 => 0x3E8483EE#32
  | 21 => 0xBE47C5C2#32
  | 22 => 0x3E05A8A8#32
  | 23 => 0xBD85F213#32
  | 24 => 0xA553C9CA#32
  | 25 => 0x3D85F213#32
  | 26 => 0xBE05A8A8#32
  | 27 => 0x3E47C5C2#32
  | 28 => 0xBE8483EE#32
  | 29 => 0x3EA493B7#32
  | 30 => 0xBEC3EF15#32
  | 31 => 0x3EE273AA#32
  | 32 => 0xBF000000#32
  | 33 => 0x3F0E39DA#32
  | 34 => 0xBF1BD7CA#32
  | 35 => 0x3F28CAE3#32
  | 36 => 0xBF3504F3#32
  | 37 => 0x3F407893#32
  | 38 => 0xBF4B1934#32
  | 39 => 0x3F54DB31#32
  | 40 => 0xBF5DB3D7#32
  | 41 => 0x3F659974#32
  | 42 => 0xBF6C835E#32
  | 43 => 0x3F726A03#32
  | 44 => 0xBF7746EA#32
  | 45 => 0x3F7B14BE#32
  | 46 => 0xBF7DCF55#32
  | 47 => 0x3F7F73AF#32
  | 48 => 0xBF800000#32
  | 49 => 0x3F7F73AF#32
  | 50 => 0xBF7DCF55#32
  | 51 => 0x3F7B14BE#32
  | 52 => 0xBF7746EA#32
  | 53 => 0x3F726A03#32
  | 54 => 0xBF6C835E#32
  | 55 => 0x3F659974#32
  | 56 => 0xBF5DB3D7#32
  | 57 => 0x3F54DB31#32
  | 58 => 0xBF4B1934#32
  | 59 => 0x3F407893#32
  | 60 => 0xBF3504F3#32
  | 61 => 0x3F28CAE3#32
  | 62 => 0xBF1BD7CA#32
  | 63 => 0x3F0E39DA#32
  | 64 => 0xBF000000#32
  | 65 => 0x3EE273AA#32
  | 66 => 0xBEC3EF15#32
  | 67 => 0x3EA493B7#32
  | 68 => 0xBE8483EE#32
  | 69 => 0x3E47C5C2#32
  | 70 => 0xBE05A8A8#32
  | 71 => 0x3D85F213#32
  | 72 => 0x248D3132#32
  | 73 => 0xBD85F213#32
  | 74 => 0x3E05A8A8#32
  | 75 => 0xBE47C5C2#32
  | 76 => 0x3E8483EE#32
  | 77 => 0xBEA493B7#32
  | 78 => 0x3EC3EF15#32
  | 79 => 0xBEE273AA#32
  | 80 => 0x3F000000#32
  | 81 => 0xBF0E39DA#32
  | 82 => 0x3F1BD7CA#32
  | 83 => 0xBF28CAE3#32
  | 84 => 0x3F3504F3#32
  | 85 => 0xBF407893#32
  | 86 => 0x3F4B1934#32
  | 87 => 0xBF54DB31#32
  | 88 => 0x3F5DB3D7#32
  | 89 => 0xBF659974#32
  | 90 => 0x3F6C835E#32
  | 91 => 0xBF726A03#32
  | 92 => 0x3F7746EA#32
  | 93 => 0xBF7B14BE#32
  | 94 => 0x3F7DCF55#32
  | 95 => 0xBF7F73AF#32
  | 96 => 0x3F800000#32
  | 97 => 0xBF7F73AF#32
  | 98 => 0x3F7DCF55#32
  | 99 => 0xBF7B14BE#32
  | 100 => 0x3F7746EA#32
  | 101 => 0xBF726A03#32
  | 102 => 0x3F6C835E#32
  | 103 => 0xBF659974#32
  | 104 => 0x3F5DB3D7#32
  | 105 => 0xBF54DB31#32
  | 106 => 0x3F4B1934#32
  | 107 => 0xBF407893#32
  | 108 => 0x3F3504F3#32
  | 109 => 0xBF28CAE3#32
  | 110 => 0x3F1BD7CA#32
  | 111 => 0xBF0E39DA#32
  | 112 => 0x3F000000#32
  | 113 => 0xBEE273AA#32
  | 114 => 0x3EC3EF15#32
  | 115 => 0xBEA493B7#32
  | 116 => 0x3E8483EE#32
  | 117 => 0xBE47C5C2#32
  | 118 => 0x3E05A8A8#32
  | 119 => 0xBD85F213#32
  | 120 => 0xA553C9CA#32
  | 121 => 0x3D85F213#32
  | 122 => 0xBE05A8A8#32
  | 123 => 0x3E47C5C2#32
  | 124 => 0xBE8483EE#32
  | 125 => 0x3EA493B7#32
  | 126 => 0xBEC3EF15#32
  | 127 => 0x3EE273AA#32
  | _ => 0#32

noncomputable abbrev lit0t0_319 (i : Nat) : BitVec 32 := match i % 128 with
  | 0 => 0xBF000000#32
  | 1 => 0x3F0E39DA#32
  | 2 => 0xBF1BD7CA#32
  | 3 => 0x3F28CAE3#32
  | 4 => 0xBF3504F3#32
  | 5 => 0x3F407893#32
  | 6 => 0xBF4B1934#32
  | 7 => 0x3F54DB31#32
  | 8 => 0xBF5DB3D7#32
  | 9 => 0x3F659974#32
  | 10 => 0xBF6C835E#32
  | 11 => 0x3F726A03#32
  | 12 => 0xBF7746EA#32
  | 13 => 0x3F7B14BE#32
  | 14 => 0xBF7DCF55#32
  | 15 => 0x3F7F73AF#32
  | 16 => 0xBF800000#32
  | 17 => 0x3F7F73AF#32
  | 18 => 0xBF7DCF55#32
  | 19 => 0x3F7B14BE#32
  | 20 => 0xBF7746EA#32
  | 21 => 0x3F726A03#32
  | 22 => 0xBF6C835E#32
  | 23 => 0x3F659974#32
  | 24 => 0xBF5DB3D7#32
  | 25 => 0x3F54DB31#32
  | 26 => 0xBF4B1934#32
  | 27 => 0x3F407893#32
  | 28 => 0xBF3504F3#32
  | 29 => 0x3F28CAE3#32
  | 30 => 0xBF1BD7CA#32
  | 31 => 0x3F0E39DA#32
  | 32 => 0xBF000000#32
  | 33 => 0x3EE273AA#32
  | 34 => 0xBEC3EF15#32
  | 35 => 0x3EA493B7#32
  | 36 => 0xBE8483EE#32
  | 37 => 0x3E47C5C2#32
  | 38 => 0xBE05A8A8#32
  | 39 => 0x3D85F213#32
  | 40 => 0x248D3132#32
  | 41 => 0xBD85F213#32
  | 42 => 0x3E05A8A8#32
  | 43 => 0xBE47C5C2#32
  | 44 => 0x3E8483EE#32
  | 45 => 0xBEA493B7#32
  | 46 => 0x3EC3EF15#32
  | 47 => 0xBEE273AA#32
  | 48 => 0x3F000000#32
  | 49 => 0xBF0E39DA#32
  | 50 => 0x3F1BD7CA#32
  | 51 => 0xBF28CAE3#32
  | 52 => 0x3F3504F3#32
  | 53 => 0xBF407893#32
  | 54 => 0x3F4B1934#32
  | 55 => 0xBF54DB31#32
  | 56 => 0x3F5DB3D7#32
  | 57 => 0xBF659974#32
  | 58 => 0x3F6C835E#32
  | 59 => 0xBF726A03#32
  | 60 => 0x3F7746EA#32
  | 61 => 0xBF7B14BE#32
  | 62 => 0x3F7DCF55#32
  | 63 => 0xBF7F73AF#32
  | 64 => 0x3F800000#32
  | 65 => 0xBF7FC1A0#32
  | 66 => 0x3F7F069E#32
  | 67 => 0xBF7DCF55#32
  | 68 => 0x3F7C1C5C#32
  | 69 => 0xBF79EE89#32
  | 70 => 0x3F7746EA#32
  | 71 => 0xBF7426CB#32
  | 72 => 0x3F708FB2#32
  | 73 => 0xBF6C835E#32
  | 74 => 0x3F6803CA#32
  | 75 => 0xBF631324#32
  | 76 => 0x3F5DB3D7#32
  | 77 => 0xBF57E880#32
  | 78 => 0x3F51B3F3#32
  | 79 => 0xBF4B1934#32
  | 80 => 0x3F441B7D#32
  | 81 => 0xBF3CBE35#32
  | 82 => 0x3F3504F3#32
  | 83 => 0xBF2CF37B#32
  | 84 => 0x3F248DBB#32
  | 85 => 0xBF1BD7CA#32
  | 86 => 0x3F12D5E8#32
  | 87 => 0xBF098C78#32
  | 88 => 0x3F000000#32
  | 89 => 0xBEEC6A50#32
  | 90 => 0x3ED8616C#32
  | 91 => 0xBEC3EF15#32
  | 92 => 0x3EAF1D44#32
  | 93 => 0xBE99F61C#32
  | 94 => 0x3E8483EE#32
  | 95 => 0xBE5DA259#32
  | 96 => 0x3E31D0D4#32
  | 97 => 0xBE05A8A8#32
  | 98 => 0x3DB27EB6#32
  | 99 => 0xBD32AA3E#32
  | 100 => 0xA553C9CA#32
  | 101 => 0x3D32AA3E#32
  | 102 => 0xBDB27EB6#32
  | 103 => 0x3E05A8A8#32
  | 104 => 0xBE31D0D4#32
  | 105 => 0x3E5DA259#32
  | 106 => 0xBE8483EE#32
  | 107 => 0x3E99F61C#32
  | 108 => 0xBEAF1D44#32
  | 109 => 0x3EC3EF15#32
  | 110 => 0xBED8616C#32
  | 111 => 0x3EEC6A50#32
  | 112 => 0xBF000000#32
  | 113 => 0x3F098C78#32
  | 114 => 0xBF12D5E8#32
  | 115 => 0x3F1BD7CA#32
  | 116 => 0xBF248DBB#32
  | 117 => 0x3F2CF37B#32
  | 118 => 0xBF3504F3#32
  | 119 => 0x3F3CBE35#32
  | 120 => 0xBF441B7D#32
  | 121 => 0x3F4B1934#32
  | 122 => 0xBF51B3F3#32
  | 123 => 0x3F57E880#32
  | 124 => 0xBF5DB3D7#32
  | 125 => 0x3F631324#32
  | 126 => 0xBF6803CA#32
  | 127 => 0x3F6C835E#32
  | _ => 0#32

noncomputable abbrev lit0t0_320 (i : Nat) : BitVec 32 := match i % 128 with
  | 0 => 0xBF708FB2#32
  | 1 => 0x3F7426CB#32
  | 2 => 0xBF7746EA#32
  | 3 => 0x3F79EE89#32
  | 4 => 0xBF7C1C5C#32
  | 5 => 0x3F7DCF55#32
  | 6 => 0xBF7F069E#32
  | 7 => 0x3F7FC1A0#32
  | 8 => 0xBF800000#32
  | 9 => 0x3F7FC1A0#32
  | 10 => 0xBF7F069E#32
  | 11 => 0x3F7DCF55#32
  | 12 => 0xBF7C1C5C#32
  | 13 => 0x3F79EE89#32
  | 14 => 0xBF7746EA#32
  | 15 => 0x3F7426CB#32
  | 16 => 0xBF708FB2#32
  | 17 => 0x3F6C835E#32
  | 18 => 0xBF6803CA#32
  | 19 => 0x3F631324#32
  | 20 => 0xBF5DB3D7#32
  | 21 => 0x3F57E880#32
  | 22 => 0xBF51B3F3#32
  | 23 => 0x3F4B1934#32
  | 24 => 0xBF441B7D#32
  | 25 => 0x3F3CBE35#32
  | 26 => 0xBF3504F3#32
  | 27 => 0x3F2CF37B#32
  | 28 => 0xBF248DBB#32
  | 29 => 0x3F1BD7CA#32
  | 30 => 0xBF12D5E8#32
  | 31 => 0x3F098C78#32
  | 32 => 0xBF000000#32
  | 33 => 0x3EEC6A50#32
  | 34 => 0xBED8616C#32
  | 35 => 0x3EC3EF15#32
  | 36 => 0xBEAF1D44#32
  | 37 => 0x3E99F61C#32
  | 38 => 0xBE8483EE#32
  | 39 => 0x3E5DA259#32
  | 40 => 0xBE31D0D4#32
  | 41 => 0x3E05A8A8#32
  | 42 => 0xBDB27EB6#32
  | 43 => 0x3D32AA3E#32
  | 44 => 0x248D3132#32
  | 45 => 0xBD32AA3E#32
  | 46 => 0x3DB27EB6#32
  | 47 => 0xBE05A8A8#32
  | 48 => 0x3E31D0D4#32
  | 49 => 0xBE5DA259#32
  | 50 => 0x3E8483EE#32
  | 51 => 0xBE99F61C#32
  | 52 => 0x3EAF1D44#32
  | 53 => 0xBEC3EF15#32
  | 54 => 0x3ED8616C#32
  | 55 => 0xBEEC6A50#32
  | 56 => 0x3F000000#32
  | 57 => 0xBF098C78#32
  | 58 => 0x3F12D5E8#32
  | 59 => 0xBF1BD7CA#32
  | 60 => 0x3F248DBB#32
  | 61 => 0xBF2CF37B#32
  | 62 => 0x3F3504F3#32
  | 63 => 0xBF3CBE35#32
  | 64 => 0x3F441B7D#32
  | 65 => 0xBF4B1934#32
  | 66 => 0x3F51B3F3#32
  | 67 => 0xBF57E880#32
  | 68 => 0x3F5DB3D7#32
  | 69 => 0xBF631324#32
  | 70 => 0x3F6803CA#32
  | 71 => 0xBF6C835E#32
  | 72 => 0x3F708FB2#32
  | 73 => 0xBF7426CB#32
  | 74 => 0x3F7746EA#32
  | 75 => 0xBF79EE89#32
  | 76 => 0x3F7C1C5C#32
  | 77 => 0xBF7DCF55#32
  | 78 => 0x3F7F069E#32
  | 79 => 0xBF7FC1A0#32
  | 80 => 0x3F800000#32
  | 81 => 0xBF7FC1A0#32
  | 82 => 0x3F7F069E#32
  | 83 => 0xBF7DCF55#32
  | 84 => 0x3F7C1C5C#32
  | 85 => 0xBF79EE89#32
  | 86 => 0x3F7746EA#32
  | 87 => 0xBF7426CB#32
  | 88 => 0x3F708FB2#32
  | 89 => 0xBF6C835E#32
  | 90 => 0x3F6803CA#32
  | 91 => 0xBF631324#32
  | 92 => 0x3F5DB3D7#32
  | 93 => 0xBF57E880#32
  | 94 => 0x3F51B3F3#32
  | 95 => 0xBF4B1934#32
  | 96 => 0x3F441B7D#32
  | 97 => 0xBF3CBE35#32
  | 98 => 0x3F3504F3#32
  | 99 => 0xBF2CF37B#32
  | 100 => 0x3F248DBB#32
  | 101 => 0xBF1BD7CA#32
  | 102 => 0x3F12D5E8#32
  | 103 => 0xBF098C78#32
  | 104 => 0x3F000000#32
  | 105 => 0xBEEC6A50#32
  | 106 => 0x3ED8616C#32
  | 107 => 0xBEC3EF15#32
  | 108 => 0x3EAF1D44#32
  | 109 => 0xBE99F61C#32
  | 110 => 0x3E8483EE#32
  | 111 => 0xBE5DA259#32
  | 112 => 0x3E31D0D4#32
  | 113 => 0xBE05A8A8#32
  | 114 => 0x3DB27EB6#32
  | 115 => 0xBD32AA3E#32
  | 116 => 0xA553C9CA#32
  | 117 => 0x3D32AA3E#32
  | 118 => 0xBDB27EB6#32
  | 119 => 0x3E05A8A8#32
  | 120 => 0xBE31D0D4#32
  | 121 => 0x3E5DA259#32
  | 122 => 0xBE8483EE#32
  | 123 => 0x3E99F61C#32
  | 124 => 0xBEAF1D44#32
  | 125 => 0x3EC3EF15#32
  | 126 => 0xBED8616C#32
  | 127 => 0x3EEC6A50#32
  | _ => 0#32

noncomputable abbrev lit0t0_321 (i : Nat) : BitVec 32 := match i % 128 with
  | 0 => 0xBF000000#32
  | 1 => 0x3F098C78#32
  | 2 => 0xBF12D5E8#32
  | 3 => 0x3F1BD7CA#32
  | 4 => 0xBF248DBB#32
  | 5 => 0x3F2CF37B#32
  | 6 => 0xBF3504F3#32
  | 7 => 0x3F3CBE35#32
  | 8 => 0xBF441B7D#32
  | 9 => 0x3F4B1934#32
  | 10 => 0xBF51B3F3#32
  | 11 => 0x3F57E880#32
  | 12 => 0xBF5DB3D7#32
  | 13 => 0x3F631324#32
  | 14 => 0xBF6803CA#32
  | 15 => 0x3F6C835E#32
  | 16 => 0xBF708FB2#32
  | 17 => 0x3F7426CB#32
  | 18 => 0xBF7746EA#32
  | 19 => 0x3F79EE89#32
  | 20 => 0xBF7C1C5C#32
  | 21 => 0x3F7DCF55#32
  | 22 => 0xBF7F069E#32
  | 23 => 0x3F7FC1A0#32
  | 24 => 0xBF800000#32
  | 25 => 0x3F7FC1A0#32
  | 26 => 0xBF7F069E#32
  | 27 => 0x3F7DCF55#32
  | 28 => 0xBF7C1C5C#32
  | 29 => 0x3F79EE89#32
  | 30 => 0xBF7746EA#32
  | 31 => 0x3F7426CB#32
  | 32 => 0xBF708FB2#32
  | 33 => 0x3F6C835E#32
  | 34 => 0xBF6803CA#32
  | 35 => 0x3F631324#32
  | 36 => 0xBF5DB3D7#32
  | 37 => 0x3F57E880#32
  | 38 => 0xBF51B3F3#32
  | 39 => 0x3F4B1934#32
  | 40 => 0xBF441B7D#32
  | 41 => 0x3F3CBE35#32
  | 42 => 0xBF3504F3#32
  | 43 => 0x3F2CF37B#32
  | 44 => 0xBF248DBB#32
  | 45 => 0x3F1BD7CA#32
  | 46 => 0xBF12D5E8#32
  | 47 => 0x3F098C78#32
  | 48 => 0xBF000000#32
  | 49 => 0x3EEC6A50#32
  | 50 => 0xBED8616C#32
  | 51 => 0x3EC3EF15#32
  | 52 => 0xBEAF1D44#32
  | 53 => 0x3E99F61C#32
  | 54 => 0xBE8483EE#32
  | 55 => 0x3E5DA259#32
  | 56 => 0xBE31D0D4#32
  | 57 => 0x3E05A8A8#32
  | 58 => 0xBDB27EB6#32
  | 59 => 0x3D32AA3E#32
  | 60 => 0x248D3132#32
  | 61 => 0xBD32AA3E#32
  | 62 => 0x3DB27EB6#32
  | 63 => 0xBE05A8A8#32
  | 64 => 0x3E31D0D4#32
  | 65 => 0xBE5DA259#32
  | 66 => 0x3E8483EE#32
  | 67 => 0xBE99F61C#32
  | 68 => 0x3EAF1D44#32
  | 69 => 0xBEC3EF15#32
  | 70 => 0x3ED8616C#32
  | 71 => 0xBEEC6A50#32
  | 72 => 0x3F000000#32
  | 73 => 0xBF098C78#32
  | 74 => 0x3F12D5E8#32
  | 75 => 0xBF1BD7CA#32
  | 76 => 0x3F248DBB#32
  | 77 => 0xBF2CF37B#32
  | 78 => 0x3F3504F3#32
  | 79 => 0xBF3CBE35#32
  | 80 => 0x3F441B7D#32
  | 81 => 0xBF4B1934#32
  | 82 => 0x3F51B3F3#32
  | 83 => 0xBF57E880#32
  | 84 => 0x3F5DB3D7#32
  | 85 => 0xBF631324#32
  | 86 => 0x3F6803CA#32
  | 87 => 0xBF6C835E#32
  | 88 => 0x3F708FB2#32
  | 89 => 0xBF7426CB#32
  | 90 => 0x3F7746EA#32
  | 91 => 0xBF79EE89#32
  | 92 => 0x3F7C1C5C#32
  | 93 => 0xBF7DCF55#32
  | 94 => 0x3F7F069E#32
  | 95 => 0xBF7FC1A0#32
  | 96 => 0x3F800000#32
  | 97 => 0xBF7FF067#32
  | 98 => 0x3F7FC1A0#32
  | 99 => 0xBF7F73AF#32
  | 100 => 0x3F7F069E#32
  | 101 => 0xBF7E7A7A#32
  | 102 => 0x3F7DCF55#32
  | 103 => 0xBF7D0543#32
  | 104 => 0x3F7C1C5C#32
  | 105 => 0xBF7B14BE#32
  | 106 => 0x3F79EE89#32
  | 107 => 0xBF78A9E0#32
  | 108 => 0x3F7746EA#32
  | 109 => 0xBF75C5D4#32
  | 110 => 0x3F7426CB#32
  | 111 => 0xBF726A03#32
  | 112 => 0x3F708FB2#32
  | 113 => 0xBF6E9811#32
  | 114 => 0x3F6C835E#32
  | 115 => 0xBF6A51DA#32
  | 116 => 0x3F6803CA#32
  | 117 => 0xBF659974#32
  | 118 => 0x3F631324#32
  | 119 => 0xBF60712A#32
  | 120 => 0x3F5DB3D7#32
  | 121 => 0xBF5ADB81#32
  | 122 => 0x3F57E880#32
  | 123 => 0xBF54DB31#32
  | 124 => 0x3F51B3F3#32
  | 125 => 0xBF4E7327#32
  | 126 => 0x3F4B1934#32
  | 127 => 0xBF47A682#32
  | _ => 0#32

noncomputable abbrev lit0t0_322 (i : Nat) : BitVec 32 := match i % 128 with
  | 0 => 0x3F441B7D#32
  | 1 => 0xBF407893#32
  | 2 => 0x3F3CBE35#32
  | 3 => 0xBF38ECD8#32
  | 4 => 0x3F3504F3#32
  | 5 => 0xBF310700#32
  | 6 => 0x3F2CF37B#32
  | 7 => 0xBF28CAE3#32
  | 8 => 0x3F248DBB#32
  | 9 => 0xBF203C85#32
  | 10 => 0x3F1BD7CA#32
  | 11 => 0xBF176012#32
  | 12 => 0x3F12D5E8#32
  | 13 => 0xBF0E39DA#32
  | 14 => 0x3F098C78#32
  | 15 => 0xBF04CE53#32
  | 16 => 0x3F000000#32
  | 17 => 0xBEF64429#32
  | 18 => 0x3EEC6A50#32
  | 19 => 0xBEE273AA#32
  | 20 => 0x3ED8616C#32
  | 21 => 0xBECE34D0#32
  | 22 => 0x3EC3EF15#32
  | 23 => 0xBEB9917B#32
  | 24 => 0x3EAF1D44#32
  | 25 => 0xBEA493B7#32
  | 26 => 0x3E99F61C#32
  | 27 => 0xBE8F45C0#32
  | 28 => 0x3E8483EE#32
  | 29 => 0xBE7363EE#32
  | 30 => 0x3E5DA259#32
  | 31 => 0xBE47C5C2#32
  | 32 => 0x3E31D0D4#32
  | 33 => 0xBE1BC63C#32
  | 34 => 0x3E05A8A8#32
  | 35 => 0xBDDEF599#32
  | 36 => 0x3DB27EB6#32
  | 37 => 0xBD85F213#32
  | 38 => 0x3D32AA3E#32
  | 39 => 0xBCB2B521#32
  | 40 => 0xA553C9CA#32
  | 41 => 0x3CB2B521#32
  | 42 => 0xBD32AA3E#32
  | 43 => 0x3D85F213#32
  | 44 => 0xBDB27EB6#32
  | 45 => 0x3DDEF599#32
  | 46 => 0xBE05A8A8#32
  | 47 => 0x3E1BC63C#32
  | 48 => 0xBE31D0D4#32
  | 49 => 0x3E47C5C2#32
  | 50 => 0xBE5DA259#32
  | 51 => 0x3E7363EE#32
  | 52 => 0xBE8483EE#32
  | 53 => 0x3E8F45C0#32
  | 54 => 0xBE99F61C#32
  | 55 => 0x3EA493B7#32
  | 56 => 0xBEAF1D44#32
  | 57 => 0x3EB9917B#32
  | 58 => 0xBEC3EF15#32
  | 59 => 0x3ECE34D0#32
  | 60 => 0xBED8616C#32
  | 61 => 0x3EE273AA#32
  | 62 => 0xBEEC6A50#32
  | 63 => 0x3EF64429#32
  | 64 => 0xBF000000#32
  | 65 => 0x3F04CE53#32
  | 66 => 0xBF098C78#32
  | 67 => 0x3F0E39DA#32
  | 68 => 0xBF12D5E8#32
  | 69 => 0x3F176012#32
  | 70 => 0xBF1BD7CA#32
  | 71 => 0x3F203C85#32
  | 72 => 0xBF248DBB#32
  | 73 => 0x3F28CAE3#32
  | 74 => 0xBF2CF37B#32
  | 75 => 0x3F310700#32
  | 76 => 0xBF3504F3#32
  | 77 => 0x3F38ECD8#32
  | 78 => 0xBF3CBE35#32
  | 79 => 0x3F407893#32
  | 80 => 0xBF441B7D#32
  | 81 => 0x3F47A682#32
  | 82 => 0xBF4B1934#32
  | 83 => 0x3F4E7327#32
  | 84 => 0xBF51B3F3#32
  | 85 => 0x3F54DB31#32
  | 86 => 0xBF57E880#32
  | 87 => 0x3F5ADB81#32
  | 88 => 0xBF5DB3D7#32
  | 89 => 0x3F60712A#32
  | 90 => 0xBF631324#32
  | 91 => 0x3F659974#32
  | 92 => 0xBF6803CA#32
  | 93 => 0x3F6A51DA#32
  | 94 => 0xBF6C835E#32
  | 95 => 0x3F6E9811#32
  | 96 => 0xBF708FB2#32
  | 97 => 0x3F726A03#32
  | 98 => 0xBF7426CB#32
  | 99 => 0x3F75C5D4#32
  | 100 => 0xBF7746EA#32
  | 101 => 0x3F78A9E0#32
  | 102 => 0xBF79EE89#32
  | 103 => 0x3F7B14BE#32
  | 104 => 0xBF7C1C5C#32
  | 105 => 0x3F7D0543#32
  | 106 => 0xBF7DCF55#32
  | 107 => 0x3F7E7A7A#32
  | 108 => 0xBF7F069E#32
  | 109 => 0x3F7F73AF#32
  | 110 => 0xBF7FC1A0#32
  | 111 => 0x3F7FF067#32
  | 112 => 0xBF800000#32
  | 113 => 0x3F7FF067#32
  | 114 => 0xBF7FC1A0#32
  | 115 => 0x3F7F73AF#32
  | 116 => 0xBF7F069E#32
  | 117 => 0x3F7E7A7A#32
  | 118 => 0xBF7DCF55#32
  | 119 => 0x3F7D0543#32
  | 120 => 0xBF7C1C5C#32
  | 121 => 0x3F7B14BE#32
  | 122 => 0xBF79EE89#32
  | 123 => 0x3F78A9E0#32
  | 124 => 0xBF7746EA#32
  | 125 => 0x3F75C5D4#32
  | 126 => 0xBF7426CB#32
  | 127 => 0x3F726A03#32
  | _ => 0#32

noncomputable abbrev lit0t0_323 (i : Nat) : BitVec 32 := match i % 128 with
  | 0 => 0xBF708FB2#32
  | 1 => 0x3F6E9811#32
  | 2 => 0xBF6C835E#32
  | 3 => 0x3F6A51DA#32
  | 4 => 0xBF6803CA#32
  | 5 => 0x3F659974#32
  | 6 => 0xBF631324#32
  | 7 => 0x3F60712A#32
  | 8 => 0xBF5DB3D7#32
  | 9 => 0x3F5ADB81#32
  | 10 => 0xBF57E880#32
  | 11 => 0x3F54DB31#32
  | 12 => 0xBF51B3F3#32
  | 13 => 0x3F4E7327#32
  | 14 => 0xBF4B1934#32
  | 15 => 0x3F47A682#32
  | 16 => 0xBF441B7D#32
  | 17 => 0x3F407893#32
  | 18 => 0xBF3CBE35#32
  | 19 => 0x3F38ECD8#32
  | 20 => 0xBF3504F3#32
  | 21 => 0x3F310700#32
  | 22 => 0xBF2CF37B#32
  | 23 => 0x3F28CAE3#32
  | 24 => 0xBF248DBB#32
  | 25 => 0x3F203C85#32
  | 26 => 0xBF1BD7CA#32
  | 27 => 0x3F176012#32
  | 28 => 0xBF12D5E8#32
  | 29 => 0x3F0E39DA#32
  | 30 => 0xBF098C78#32
  | 31 => 0x3F04CE53#32
  | 32 => 0xBF000000#32
  | 33 => 0x3EF64429#32
  | 34 => 0xBEEC6A50#32
  | 35 => 0x3EE273AA#32
  | 36 => 0xBED8616C#32
  | 37 => 0x3ECE34D0#32
  | 38 => 0xBEC3EF15#32
  | 39 => 0x3EB9917B#32
  | 40 => 0xBEAF1D44#32
  | 41 => 0x3EA493B7#32
  | 42 => 0xBE99F61C#32
  | 43 => 0x3E8F45C0#32
  | 44 => 0xBE8483EE#32
  | 45 => 0x3E7363EE#32
  | 46 => 0xBE5DA259#32
  | 47 => 0x3E47C5C2#32
  | 48 => 0xBE31D0D4#32
  | 49 => 0x3E1BC63C#32
  | 50 => 0xBE05A8A8#32
  | 51 => 0x3DDEF599#32
  | 52 => 0xBDB27EB6#32
  | 53 => 0x3D85F213#32
  | 54 => 0xBD32AA3E#32
  | 55 => 0x3CB2B521#32
  | 56 => 0x248D3132#32
  | 57 => 0xBCB2B521#32
  | 58 => 0x3D32AA3E#32
  | 59 => 0xBD85F213#32
  | 60 => 0x3DB27EB6#32
  | 61 => 0xBDDEF599#32
  | 62 => 0x3E05A8A8#32
  | 63 => 0xBE1BC63C#32
  | 64 => 0x3E31D0D4#32
  | 65 => 0xBE47C5C2#32
  | 66 => 0x3E5DA259#32
  | 67 => 0xBE7363EE#32
  | 68 => 0x3E8483EE#32
  | 69 => 0xBE8F45C0#32
  | 70 => 0x3E99F61C#32
  | 71 => 0xBEA493B7#32
  | 72 => 0x3EAF1D44#32
  | 73 => 0xBEB9917B#32
  | 74 => 0x3EC3EF15#32
  | 75 => 0xBECE34D0#32
  | 76 => 0x3ED8616C#32
  | 77 => 0xBEE273AA#32
  | 78 => 0x3EEC6A50#32
  | 79 => 0xBEF64429#32
  | 80 => 0x3F000000#32
  | 81 => 0xBF04CE53#32
  | 82 => 0x3F098C78#32
  | 83 => 0xBF0E39DA#32
  | 84 => 0x3F12D5E8#32
  | 85 => 0xBF176012#32
  | 86 => 0x3F1BD7CA#32
  | 87 => 0xBF203C85#32
  | 88 => 0x3F248DBB#32
  | 89 => 0xBF28CAE3#32
  | 90 => 0x3F2CF37B#32
  | 91 => 0xBF310700#32
  | 92 => 0x3F3504F3#32
  | 93 => 0xBF38ECD8#32
  | 94 => 0x3F3CBE35#32
  | 95 => 0xBF407893#32
  | 96 => 0x3F441B7D#32
  | 97 => 0xBF47A682#32
  | 98 => 0x3F4B1934#32
  | 99 => 0xBF4E7327#32
  | 100 => 0x3F51B3F3#32
  | 101 => 0xBF54DB31#32
  | 102 => 0x3F57E880#32
  | 103 => 0xBF5ADB81#32
  | 104 => 0x3F5DB3D7#32
  | 105 => 0xBF60712A#32
  | 106 => 0x3F631324#32
  | 107 => 0xBF659974#32
  | 108 => 0x3F6803CA#32
  | 109 => 0xBF6A51DA#32
  | 110 => 0x3F6C835E#32
  | 111 => 0xBF6E9811#32
  | 112 => 0x3F708FB2#32
  | 113 => 0xBF726A03#32
  | 114 => 0x3F7426CB#32
  | 115 => 0xBF75C5D4#32
  | 116 => 0x3F7746EA#32
  | 117 => 0xBF78A9E0#32
  | 118 => 0x3F79EE89#32
  | 119 => 0xBF7B14BE#32
  | 120 => 0x3F7C1C5C#32
  | 121 => 0xBF7D0543#32
  | 122 => 0x3F7DCF55#32
  | 123 => 0xBF7E7A7A#32
  | 124 => 0x3F7F069E#32
  | 125 => 0xBF7F73AF#32
  | 126 => 0x3F7FC1A0#32
  | 127 => 0xBF7FF067#32
  | _ => 0#32

noncomputable abbrev lit0t0_324 (i : Nat) : BitVec 32 := match i % 128 with
  | 0 => 0x3F800000#32
  | 1 => 0xBF800000#32
  | 2 => 0x3F800000#32
  | 3 => 0xBF800000#32
  | 4 => 0x3F800000#32
  | 5 => 0xBF800000#32
  | 6 => 0x3F800000#32
  | 7 => 0xBF800000#32
  | 8 => 0x3F800000#32
  | 9 => 0xBF800000#32
  | 10 => 0x3F800000#32
  | 11 => 0xBF800000#32
  | 12 => 0x3F800000#32
  | 13 => 0xBF800000#32
  | 14 => 0x3F800000#32
  | 15 => 0xBF800000#32
  | 16 => 0x3F800000#32
  | 17 => 0xBF800000#32
  | 18 => 0x3F800000#32
  | 19 => 0xBF800000#32
  | 20 => 0x3F800000#32
  | 21 => 0xBF800000#32
  | 22 => 0x3F800000#32
  | 23 => 0xBF800000#32
  | 24 => 0x3F800000#32
  | 25 => 0xBF800000#32
  | 26 => 0x3F800000#32
  | 27 => 0xBF800000#32
  | 28 => 0x3F800000#32
  | 29 => 0xBF800000#32
  | 30 => 0x3F800000#32
  | 31 => 0xBF800000#32
  | 32 => 0x3F800000#32
  | 33 => 0xBF800000#32
  | 34 => 0x3F800000#32
  | 35 => 0xBF800000#32
  | 36 => 0x3F800000#32
  | 37 => 0xBF800000#32
  | 38 => 0x3F800000#32
  | 39 => 0xBF800000#32
  | 40 => 0x3F800000#32
  | 41 => 0xBF800000#32
  | 42 => 0x3F800000#32
  | 43 => 0xBF800000#32
  | 44 => 0x3F800000#32
  | 45 => 0xBF800000#32
  | 46 => 0x3F800000#32
  | 47 => 0xBF800000#32
  | 48 => 0x3F800000#32
  | 49 => 0xBF800000#32
  | 50 => 0x3F800000#32
  | 51 => 0xBF800000#32
  | 52 => 0x3F800000#32
  | 53 => 0xBF800000#32
  | 54 => 0x3F800000#32
  | 55 => 0xBF800000#32
  | 56 => 0x3F800000#32
  | 57 => 0xBF800000#32
  | 58 => 0x3F800000#32
  | 59 => 0xBF800000#32
  | 60 => 0x3F800000#32
  | 61 => 0xBF800000#32
  | 62 => 0x3F800000#32
  | 63 => 0xBF800000#32
  | 64 => 0x3F800000#32
  | 65 => 0xBF800000#32
  | 66 => 0x3F800000#32
  | 67 => 0xBF800000#32
  | 68 => 0x3F800000#32
  | 69 => 0xBF800000#32
  | 70 => 0x3F800000#32
  | 71 => 0xBF800000#32
  | 72 => 0x3F800000#32
  | 73 => 0xBF800000#32
  | 74 => 0x3F800000#32
  | 75 => 0xBF800000#32
  | 76 => 0x3F800000#32
  | 77 => 0xBF800000#32
  | 78 => 0x3F800000#32
  | 79 => 0xBF800000#32
  | 80 => 0x3F800000#32
  | 81 => 0xBF800000#32
  | 82 => 0x3F800000#32
  | 83 => 0xBF800000#32
  | 84 => 0x3F800000#32
  | 85 => 0xBF800000#32
  | 86 => 0x3F800000#32
  | 87 => 0xBF800000#32
  | 88 => 0x3F800000#32
  | 89 => 0xBF800000#32
  | 90 => 0x3F800000#32
  | 91 => 0xBF800000#32
  | 92 => 0x3F800000#32
  | 93 => 0xBF800000#32
  | 94 => 0x3F800000#32
  | 95 => 0xBF800000#32
  | 96 => 0x3F800000#32
  | 97 => 0xBF800000#32
  | 98 => 0x3F800000#32
  | 99 => 0xBF800000#32
  | 100 => 0x3F800000#32
  | 101 => 0xBF800000#32
  | 102 => 0x3F800000#32
  | 103 => 0xBF800000#32
  | 104 => 0x3F800000#32
  | 105 => 0xBF800000#32
  | 106 => 0x3F800000#32
  | 107 => 0xBF800000#32
  | 108 => 0x3F800000#32
  | 109 => 0xBF800000#32
  | 110 => 0x3F800000#32
  | 111 => 0xBF800000#32
  | 112 => 0x3F800000#32
  | 113 => 0xBF800000#32
  | 114 => 0x3F800000#32
  | 115 => 0xBF800000#32
  | 116 => 0x3F800000#32
  | 117 => 0xBF800000#32
  | 118 => 0x3F800000#32
  | 119 => 0xBF800000#32
  | 120 => 0x3F800000#32
  | 121 => 0xBF800000#32
  | 122 => 0x3F800000#32
  | 123 => 0xBF800000#32
  | 124 => 0x3F800000#32
  | 125 => 0xBF800000#32
  | 126 => 0x3F800000#32
  | 127 => 0xBF800000#32
  | _ => 0#32

noncomputable abbrev lit0t0_325 (i : Nat) : BitVec 32 := match i % 128 with
  | 0 => 0x3F800000#32
  | 1 => 0xBF800000#32
  | 2 => 0x3F800000#32
  | 3 => 0xBF800000#32
  | 4 => 0x3F800000#32
  | 5 => 0xBF800000#32
  | 6 => 0x3F800000#32
  | 7 => 0xBF800000#32
  | 8 => 0x3F800000#32
  | 9 => 0xBF800000#32
  | 10 => 0x3F800000#32
  | 11 => 0xBF800000#32
  | 12 => 0x3F800000#32
  | 13 => 0xBF800000#32
  | 14 => 0x3F800000#32
  | 15 => 0xBF800000#32
  | 16 => 0x3F800000#32
  | 17 => 0xBF800000#32
  | 18 => 0x3F800000#32
  | 19 => 0xBF800000#32
  | 20 => 0x3F800000#32
  | 21 => 0xBF800000#32
  | 22 => 0x3F800000#32
  | 23 => 0xBF800000#32
  | 24 => 0x3F800000#32
  | 25 => 0xBF800000#32
  | 26 => 0x3F800000#32
  | 27 => 0xBF800000#32
  | 28 => 0x3F800000#32
  | 29 => 0xBF800000#32
  | 30 => 0x3F800000#32
  | 31 => 0xBF800000#32
  | 32 => 0x3F800000#32
  | 33 => 0xBF800000#32
  | 34 => 0x3F800000#32
  | 35 => 0xBF800000#32
  | 36 => 0x3F800000#32
  | 37 => 0xBF800000#32
  | 38 => 0x3F800000#32
  | 39 => 0xBF800000#32
  | 40 => 0x3F800000#32
  | 41 => 0xBF800000#32
  | 42 => 0x3F800000#32
  | 43 => 0xBF800000#32
  | 44 => 0x3F800000#32
  | 45 => 0xBF800000#32
  | 46 => 0x3F800000#32
  | 47 => 0xBF800000#32
  | 48 => 0x3F800000#32
  | 49 => 0xBF800000#32
  | 50 => 0x3F800000#32
  | 51 => 0xBF800000#32
  | 52 => 0x3F800000#32
  | 53 => 0xBF800000#32
  | 54 => 0x3F800000#32
  | 55 => 0xBF800000#32
  | 56 => 0x3F800000#32
  | 57 => 0xBF800000#32
  | 58 => 0x3F800000#32
  | 59 => 0xBF800000#32
  | 60 => 0x3F800000#32
  | 61 => 0xBF800000#32
  | 62 => 0x3F800000#32
  | 63 => 0xBF800000#32
  | 64 => 0x3F800000#32
  | 65 => 0xBF800000#32
  | 66 => 0x3F800000#32
  | 67 => 0xBF800000#32
  | 68 => 0x3F800000#32
  | 69 => 0xBF800000#32
  | 70 => 0x3F800000#32
  | 71 => 0xBF800000#32
  | 72 => 0x3F800000#32
  | 73 => 0xBF800000#32
  | 74 => 0x3F800000#32
  | 75 => 0xBF800000#32
  | 76 => 0x3F800000#32
  | 77 => 0xBF800000#32
  | 78 => 0x3F800000#32
  | 79 => 0xBF800000#32
  | 80 => 0x3F800000#32
  | 81 => 0xBF800000#32
  | 82 => 0x3F800000#32
  | 83 => 0xBF800000#32
  | 84 => 0x3F800000#32
  | 85 => 0xBF800000#32
  | 86 => 0x3F800000#32
  | 87 => 0xBF800000#32
  | 88 => 0x3F800000#32
  | 89 => 0xBF800000#32
  | 90 => 0x3F800000#32
  | 91 => 0xBF800000#32
  | 92 => 0x3F800000#32
  | 93 => 0xBF800000#32
  | 94 => 0x3F800000#32
  | 95 => 0xBF800000#32
  | 96 => 0x3F800000#32
  | 97 => 0xBF800000#32
  | 98 => 0x3F800000#32
  | 99 => 0xBF800000#32
  | 100 => 0x3F800000#32
  | 101 => 0xBF800000#32
  | 102 => 0x3F800000#32
  | 103 => 0xBF800000#32
  | 104 => 0x3F800000#32
  | 105 => 0xBF800000#32
  | 106 => 0x3F800000#32
  | 107 => 0xBF800000#32
  | 108 => 0x3F800000#32
  | 109 => 0xBF800000#32
  | 110 => 0x3F800000#32
  | 111 => 0xBF800000#32
  | 112 => 0x3F800000#32
  | 113 => 0xBF800000#32
  | 114 => 0x3F800000#32
  | 115 => 0xBF800000#32
  | 116 => 0x3F800000#32
  | 117 => 0xBF800000#32
  | 118 => 0x3F800000#32
  | 119 => 0xBF800000#32
  | 120 => 0x3F800000#32
  | 121 => 0xBF800000#32
  | 122 => 0x3F800000#32
  | 123 => 0xBF800000#32
  | 124 => 0x3F800000#32
  | 125 => 0xBF800000#32
  | 126 => 0x3F800000#32
  | 127 => 0xBF800000#32
  | _ => 0#32

noncomputable abbrev lit0t0_326 (i : Nat) : BitVec 32 := match i % 128 with
  | 0 => 0x3F800000#32
  | 1 => 0xBF800000#32
  | 2 => 0x3F800000#32
  | 3 => 0xBF800000#32
  | 4 => 0x3F800000#32
  | 5 => 0xBF800000#32
  | 6 => 0x3F800000#32
  | 7 => 0xBF800000#32
  | 8 => 0x3F800000#32
  | 9 => 0xBF800000#32
  | 10 => 0x3F800000#32
  | 11 => 0xBF800000#32
  | 12 => 0x3F800000#32
  | 13 => 0xBF800000#32
  | 14 => 0x3F800000#32
  | 15 => 0xBF800000#32
  | 16 => 0x3F800000#32
  | 17 => 0xBF800000#32
  | 18 => 0x3F800000#32
  | 19 => 0xBF800000#32
  | 20 => 0x3F800000#32
  | 21 => 0xBF800000#32
  | 22 => 0x3F800000#32
  | 23 => 0xBF800000#32
  | 24 => 0x3F800000#32
  | 25 => 0xBF800000#32
  | 26 => 0x3F800000#32
  | 27 => 0xBF800000#32
  | 28 => 0x3F800000#32
  | 29 => 0xBF800000#32
  | 30 => 0x3F800000#32
  | 31 => 0xBF800000#32
  | _ => 0#32

noncomputable abbrev lit0t1_0 (i : Nat) : BitVec 32 := match i / 128 % 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#32

noncomputable abbrev lit0t1_1 (i : Nat) : BitVec 32 := match i / 128 % 128 with
  | 0 => lit0t0_128 i
  | 1 => lit0t0_129 i
  | 2 => lit0t0_130 i
  | 3 => lit0t0_131 i
  | 4 => lit0t0_132 i
  | 5 => lit0t0_133 i
  | 6 => lit0t0_134 i
  | 7 => lit0t0_135 i
  | 8 => lit0t0_136 i
  | 9 => lit0t0_137 i
  | 10 => lit0t0_138 i
  | 11 => lit0t0_139 i
  | 12 => lit0t0_140 i
  | 13 => lit0t0_141 i
  | 14 => lit0t0_142 i
  | 15 => lit0t0_143 i
  | 16 => lit0t0_144 i
  | 17 => lit0t0_145 i
  | 18 => lit0t0_146 i
  | 19 => lit0t0_147 i
  | 20 => lit0t0_148 i
  | 21 => lit0t0_149 i
  | 22 => lit0t0_150 i
  | 23 => lit0t0_151 i
  | 24 => lit0t0_152 i
  | 25 => lit0t0_153 i
  | 26 => lit0t0_154 i
  | 27 => lit0t0_155 i
  | 28 => lit0t0_156 i
  | 29 => lit0t0_157 i
  | 30 => lit0t0_158 i
  | 31 => lit0t0_159 i
  | 32 => lit0t0_160 i
  | 33 => lit0t0_161 i
  | 34 => lit0t0_162 i
  | 35 => lit0t0_163 i
  | 36 => lit0t0_164 i
  | 37 => lit0t0_165 i
  | 38 => lit0t0_166 i
  | 39 => lit0t0_167 i
  | 40 => lit0t0_168 i
  | 41 => lit0t0_169 i
  | 42 => lit0t0_170 i
  | 43 => lit0t0_171 i
  | 44 => lit0t0_172 i
  | 45 => lit0t0_173 i
  | 46 => lit0t0_174 i
  | 47 => lit0t0_175 i
  | 48 => lit0t0_176 i
  | 49 => lit0t0_177 i
  | 50 => lit0t0_178 i
  | 51 => lit0t0_179 i
  | 52 => lit0t0_180 i
  | 53 => lit0t0_181 i
  | 54 => lit0t0_182 i
  | 55 => lit0t0_183 i
  | 56 => lit0t0_184 i
  | 57 => lit0t0_185 i
  | 58 => lit0t0_186 i
  | 59 => lit0t0_187 i
  | 60 => lit0t0_188 i
  | 61 => lit0t0_189 i
  | 62 => lit0t0_190 i
  | 63 => lit0t0_191 i
  | 64 => lit0t0_192 i
  | 65 => lit0t0_193 i
  | 66 => lit0t0_194 i
  | 67 => lit0t0_195 i
  | 68 => lit0t0_196 i
  | 69 => lit0t0_197 i
  | 70 => lit0t0_198 i
  | 71 => lit0t0_199 i
  | 72 => lit0t0_200 i
  | 73 => lit0t0_201 i
  | 74 => lit0t0_202 i
  | 75 => lit0t0_203 i
  | 76 => lit0t0_204 i
  | 77 => lit0t0_205 i
  | 78 => lit0t0_206 i
  | 79 => lit0t0_207 i
  | 80 => lit0t0_208 i
  | 81 => lit0t0_209 i
  | 82 => lit0t0_210 i
  | 83 => lit0t0_211 i
  | 84 => lit0t0_212 i
  | 85 => lit0t0_213 i
  | 86 => lit0t0_214 i
  | 87 => lit0t0_215 i
  | 88 => lit0t0_216 i
  | 89 => lit0t0_217 i
  | 90 => lit0t0_218 i
  | 91 => lit0t0_219 i
  | 92 => lit0t0_220 i
  | 93 => lit0t0_221 i
  | 94 => lit0t0_222 i
  | 95 => lit0t0_223 i
  | 96 => lit0t0_224 i
  | 97 => lit0t0_225 i
  | 98 => lit0t0_226 i
  | 99 => lit0t0_227 i
  | 100 => lit0t0_228 i
  | 101 => lit0t0_229 i
  | 102 => lit0t0_230 i
  | 103 => lit0t0_231 i
  | 104 => lit0t0_232 i
  | 105 => lit0t0_233 i
  | 106 => lit0t0_234 i
  | 107 => lit0t0_235 i
  | 108 => lit0t0_236 i
  | 109 => lit0t0_237 i
  | 110 => lit0t0_238 i
  | 111 => lit0t0_239 i
  | 112 => lit0t0_240 i
  | 113 => lit0t0_241 i
  | 114 => lit0t0_242 i
  | 115 => lit0t0_243 i
  | 116 => lit0t0_244 i
  | 117 => lit0t0_245 i
  | 118 => lit0t0_246 i
  | 119 => lit0t0_247 i
  | 120 => lit0t0_248 i
  | 121 => lit0t0_249 i
  | 122 => lit0t0_250 i
  | 123 => lit0t0_251 i
  | 124 => lit0t0_252 i
  | 125 => lit0t0_253 i
  | 126 => lit0t0_254 i
  | 127 => lit0t0_255 i
  | _ => 0#32

noncomputable abbrev lit0t1_2 (i : Nat) : BitVec 32 := match i / 128 % 128 with
  | 0 => lit0t0_256 i
  | 1 => lit0t0_257 i
  | 2 => lit0t0_258 i
  | 3 => lit0t0_259 i
  | 4 => lit0t0_260 i
  | 5 => lit0t0_261 i
  | 6 => lit0t0_262 i
  | 7 => lit0t0_263 i
  | 8 => lit0t0_264 i
  | 9 => lit0t0_265 i
  | 10 => lit0t0_266 i
  | 11 => lit0t0_267 i
  | 12 => lit0t0_268 i
  | 13 => lit0t0_269 i
  | 14 => lit0t0_270 i
  | 15 => lit0t0_271 i
  | 16 => lit0t0_272 i
  | 17 => lit0t0_273 i
  | 18 => lit0t0_274 i
  | 19 => lit0t0_275 i
  | 20 => lit0t0_276 i
  | 21 => lit0t0_277 i
  | 22 => lit0t0_278 i
  | 23 => lit0t0_279 i
  | 24 => lit0t0_280 i
  | 25 => lit0t0_281 i
  | 26 => lit0t0_282 i
  | 27 => lit0t0_283 i
  | 28 => lit0t0_284 i
  | 29 => lit0t0_285 i
  | 30 => lit0t0_286 i
  | 31 => lit0t0_287 i
  | 32 => lit0t0_288 i
  | 33 => lit0t0_289 i
  | 34 => lit0t0_290 i
  | 35 => lit0t0_291 i
  | 36 => lit0t0_292 i
  | 37 => lit0t0_293 i
  | 38 => lit0t0_294 i
  | 39 => lit0t0_295 i
  | 40 => lit0t0_296 i
  | 41 => lit0t0_297 i
  | 42 => lit0t0_298 i
  | 43 => lit0t0_299 i
  | 44 => lit0t0_300 i
  | 45 => lit0t0_301 i
  | 46 => lit0t0_302 i
  | 47 => lit0t0_303 i
  | 48 => lit0t0_304 i
  | 49 => lit0t0_305 i
  | 50 => lit0t0_306 i
  | 51 => lit0t0_307 i
  | 52 => lit0t0_308 i
  | 53 => lit0t0_309 i
  | 54 => lit0t0_310 i
  | 55 => lit0t0_311 i
  | 56 => lit0t0_312 i
  | 57 => lit0t0_313 i
  | 58 => lit0t0_314 i
  | 59 => lit0t0_315 i
  | 60 => lit0t0_316 i
  | 61 => lit0t0_317 i
  | 62 => lit0t0_318 i
  | 63 => lit0t0_319 i
  | 64 => lit0t0_320 i
  | 65 => lit0t0_321 i
  | 66 => lit0t0_322 i
  | 67 => lit0t0_323 i
  | 68 => lit0t0_324 i
  | 69 => lit0t0_325 i
  | 70 => lit0t0_326 i
  | _ => 0#32

noncomputable abbrev lit0t (i : Nat) : BitVec 32 := match i / 16384 with
  | 0 => lit0t1_0 i
  | 1 => lit0t1_1 i
  | 2 => lit0t1_2 i
  | _ => 0#32

noncomputable abbrev lit0 : Fin 41760 → BitVec 32 := fun ⟨i, _⟩ => lit0t i

noncomputable abbrev lit1t0_0 (i : Nat) : BitVec 32 := match i % 128 with
  | 0 => 0x80000000#32
  | 1 => 0x80000000#32
  | 2 => 0x80000000#32
  | 3 => 0x80000000#32
  | 4 => 0x80000000#32
  | 5 => 0x80000000#32
  | 6 => 0x80000000#32
  | 7 => 0x80000000#32
  | 8 => 0x80000000#32
  | 9 => 0x80000000#32
  | 10 => 0x80000000#32
  | 11 => 0x80000000#32
  | 12 => 0x80000000#32
  | 13 => 0x80000000#32
  | 14 => 0x80000000#32
  | 15 => 0x80000000#32
  | 16 => 0x80000000#32
  | 17 => 0x80000000#32
  | 18 => 0x80000000#32
  | 19 => 0x80000000#32
  | 20 => 0x80000000#32
  | 21 => 0x80000000#32
  | 22 => 0x80000000#32
  | 23 => 0x80000000#32
  | 24 => 0x80000000#32
  | 25 => 0x80000000#32
  | 26 => 0x80000000#32
  | 27 => 0x80000000#32
  | 28 => 0x80000000#32
  | 29 => 0x80000000#32
  | 30 => 0x80000000#32
  | 31 => 0x80000000#32
  | 32 => 0x80000000#32
  | 33 => 0x80000000#32
  | 34 => 0x80000000#32
  | 35 => 0x80000000#32
  | 36 => 0x80000000#32
  | 37 => 0x80000000#32
  | 38 => 0x80000000#32
  | 39 => 0x80000000#32
  | 40 => 0x80000000#32
  | 41 => 0x80000000#32
  | 42 => 0x80000000#32
  | 43 => 0x80000000#32
  | 44 => 0x80000000#32
  | 45 => 0x80000000#32
  | 46 => 0x80000000#32
  | 47 => 0x80000000#32
  | 48 => 0x80000000#32
  | 49 => 0x80000000#32
  | 50 => 0x80000000#32
  | 51 => 0x80000000#32
  | 52 => 0x80000000#32
  | 53 => 0x80000000#32
  | 54 => 0x80000000#32
  | 55 => 0x80000000#32
  | 56 => 0x80000000#32
  | 57 => 0x80000000#32
  | 58 => 0x80000000#32
  | 59 => 0x80000000#32
  | 60 => 0x80000000#32
  | 61 => 0x80000000#32
  | 62 => 0x80000000#32
  | 63 => 0x80000000#32
  | 64 => 0x80000000#32
  | 65 => 0x80000000#32
  | 66 => 0x80000000#32
  | 67 => 0x80000000#32
  | 68 => 0x80000000#32
  | 69 => 0x80000000#32
  | 70 => 0x80000000#32
  | 71 => 0x80000000#32
  | 72 => 0x80000000#32
  | 73 => 0x80000000#32
  | 74 => 0x80000000#32
  | 75 => 0x80000000#32
  | 76 => 0x80000000#32
  | 77 => 0x80000000#32
  | 78 => 0x80000000#32
  | 79 => 0x80000000#32
  | 80 => 0x80000000#32
  | 81 => 0x80000000#32
  | 82 => 0x80000000#32
  | 83 => 0x80000000#32
  | 84 => 0x80000000#32
  | 85 => 0x80000000#32
  | 86 => 0x80000000#32
  | 87 => 0x80000000#32
  | 88 => 0x80000000#32
  | 89 => 0x80000000#32
  | 90 => 0x80000000#32
  | 91 => 0x80000000#32
  | 92 => 0x80000000#32
  | 93 => 0x80000000#32
  | 94 => 0x80000000#32
  | 95 => 0x80000000#32
  | 96 => 0x80000000#32
  | 97 => 0x80000000#32
  | 98 => 0x80000000#32
  | 99 => 0x80000000#32
  | 100 => 0x80000000#32
  | 101 => 0x80000000#32
  | 102 => 0x80000000#32
  | 103 => 0x80000000#32
  | 104 => 0x80000000#32
  | 105 => 0x80000000#32
  | 106 => 0x80000000#32
  | 107 => 0x80000000#32
  | 108 => 0x80000000#32
  | 109 => 0x80000000#32
  | 110 => 0x80000000#32
  | 111 => 0x80000000#32
  | 112 => 0x80000000#32
  | 113 => 0x80000000#32
  | 114 => 0x80000000#32
  | 115 => 0x80000000#32
  | 116 => 0x80000000#32
  | 117 => 0x80000000#32
  | 118 => 0x80000000#32
  | 119 => 0x80000000#32
  | 120 => 0x80000000#32
  | 121 => 0x80000000#32
  | 122 => 0x80000000#32
  | 123 => 0x80000000#32
  | 124 => 0x80000000#32
  | 125 => 0x80000000#32
  | 126 => 0x80000000#32
  | 127 => 0x80000000#32
  | _ => 0#32

noncomputable abbrev lit1t0_1 (i : Nat) : BitVec 32 := match i % 128 with
  | 0 => 0x80000000#32
  | 1 => 0x80000000#32
  | 2 => 0x80000000#32
  | 3 => 0x80000000#32
  | 4 => 0x80000000#32
  | 5 => 0x80000000#32
  | 6 => 0x80000000#32
  | 7 => 0x80000000#32
  | 8 => 0x80000000#32
  | 9 => 0x80000000#32
  | 10 => 0x80000000#32
  | 11 => 0x80000000#32
  | 12 => 0x80000000#32
  | 13 => 0x80000000#32
  | 14 => 0x80000000#32
  | 15 => 0x80000000#32
  | 16 => 0x80000000#32
  | 17 => 0x80000000#32
  | 18 => 0x80000000#32
  | 19 => 0x80000000#32
  | 20 => 0x80000000#32
  | 21 => 0x80000000#32
  | 22 => 0x80000000#32
  | 23 => 0x80000000#32
  | 24 => 0x80000000#32
  | 25 => 0x80000000#32
  | 26 => 0x80000000#32
  | 27 => 0x80000000#32
  | 28 => 0x80000000#32
  | 29 => 0x80000000#32
  | 30 => 0x80000000#32
  | 31 => 0x80000000#32
  | 32 => 0x80000000#32
  | 33 => 0x80000000#32
  | 34 => 0x80000000#32
  | 35 => 0x80000000#32
  | 36 => 0x80000000#32
  | 37 => 0x80000000#32
  | 38 => 0x80000000#32
  | 39 => 0x80000000#32
  | 40 => 0x80000000#32
  | 41 => 0x80000000#32
  | 42 => 0x80000000#32
  | 43 => 0x80000000#32
  | 44 => 0x80000000#32
  | 45 => 0x80000000#32
  | 46 => 0x80000000#32
  | 47 => 0x80000000#32
  | 48 => 0x80000000#32
  | 49 => 0x80000000#32
  | 50 => 0x80000000#32
  | 51 => 0x80000000#32
  | 52 => 0x80000000#32
  | 53 => 0x80000000#32
  | 54 => 0x80000000#32
  | 55 => 0x80000000#32
  | 56 => 0x80000000#32
  | 57 => 0x80000000#32
  | 58 => 0x80000000#32
  | 59 => 0x80000000#32
  | 60 => 0x80000000#32
  | 61 => 0x80000000#32
  | 62 => 0x80000000#32
  | 63 => 0x80000000#32
  | 64 => 0x80000000#32
  | 65 => 0x80000000#32
  | 66 => 0x80000000#32
  | 67 => 0x80000000#32
  | 68 => 0x80000000#32
  | 69 => 0x80000000#32
  | 70 => 0x80000000#32
  | 71 => 0x80000000#32
  | 72 => 0x80000000#32
  | 73 => 0x80000000#32
  | 74 => 0x80000000#32
  | 75 => 0x80000000#32
  | 76 => 0x80000000#32
  | 77 => 0x80000000#32
  | 78 => 0x80000000#32
  | 79 => 0x80000000#32
  | 80 => 0x80000000#32
  | 81 => 0x80000000#32
  | 82 => 0x80000000#32
  | 83 => 0x80000000#32
  | 84 => 0x80000000#32
  | 85 => 0x80000000#32
  | 86 => 0x80000000#32
  | 87 => 0x80000000#32
  | 88 => 0x80000000#32
  | 89 => 0x80000000#32
  | 90 => 0x80000000#32
  | 91 => 0x80000000#32
  | 92 => 0x80000000#32
  | 93 => 0x80000000#32
  | 94 => 0x80000000#32
  | 95 => 0x80000000#32
  | 96 => 0x80000000#32
  | 97 => 0x80000000#32
  | 98 => 0x80000000#32
  | 99 => 0x80000000#32
  | 100 => 0x80000000#32
  | 101 => 0x80000000#32
  | 102 => 0x80000000#32
  | 103 => 0x80000000#32
  | 104 => 0x80000000#32
  | 105 => 0x80000000#32
  | 106 => 0x80000000#32
  | 107 => 0x80000000#32
  | 108 => 0x80000000#32
  | 109 => 0x80000000#32
  | 110 => 0x80000000#32
  | 111 => 0x80000000#32
  | 112 => 0x80000000#32
  | 113 => 0x80000000#32
  | 114 => 0x80000000#32
  | 115 => 0x80000000#32
  | 116 => 0x80000000#32
  | 117 => 0x80000000#32
  | 118 => 0x80000000#32
  | 119 => 0x80000000#32
  | 120 => 0x80000000#32
  | 121 => 0x80000000#32
  | 122 => 0x80000000#32
  | 123 => 0x80000000#32
  | 124 => 0x80000000#32
  | 125 => 0x80000000#32
  | 126 => 0x80000000#32
  | 127 => 0x80000000#32
  | _ => 0#32

noncomputable abbrev lit1t0_2 (i : Nat) : BitVec 32 := match i % 128 with
  | 0 => 0x80000000#32
  | 1 => 0x80000000#32
  | 2 => 0x80000000#32
  | 3 => 0x80000000#32
  | 4 => 0x80000000#32
  | 5 => 0x80000000#32
  | 6 => 0x80000000#32
  | 7 => 0x80000000#32
  | 8 => 0x80000000#32
  | 9 => 0x80000000#32
  | 10 => 0x80000000#32
  | 11 => 0x80000000#32
  | 12 => 0x80000000#32
  | 13 => 0x80000000#32
  | 14 => 0x80000000#32
  | 15 => 0x80000000#32
  | 16 => 0x80000000#32
  | 17 => 0x80000000#32
  | 18 => 0x80000000#32
  | 19 => 0x80000000#32
  | 20 => 0x80000000#32
  | 21 => 0x80000000#32
  | 22 => 0x80000000#32
  | 23 => 0x80000000#32
  | 24 => 0x80000000#32
  | 25 => 0x80000000#32
  | 26 => 0x80000000#32
  | 27 => 0x80000000#32
  | 28 => 0x80000000#32
  | 29 => 0x80000000#32
  | 30 => 0x80000000#32
  | 31 => 0x80000000#32
  | 32 => 0x80000000#32
  | 33 => 0xBCB2B521#32
  | 34 => 0xBD32AA3E#32
  | 35 => 0xBD85F213#32
  | 36 => 0xBDB27EB6#32
  | 37 => 0xBDDEF599#32
  | 38 => 0xBE05A8A8#32
  | 39 => 0xBE1BC63C#32
  | 40 => 0xBE31D0D4#32
  | 41 => 0xBE47C5C2#32
  | 42 => 0xBE5DA259#32
  | 43 => 0xBE7363EE#32
  | 44 => 0xBE8483EE#32
  | 45 => 0xBE8F45C0#32
  | 46 => 0xBE99F61C#32
  | 47 => 0xBEA493B7#32
  | 48 => 0xBEAF1D44#32
  | 49 => 0xBEB9917B#32
  | 50 => 0xBEC3EF15#32
  | 51 => 0xBECE34D0#32
  | 52 => 0xBED8616C#32
  | 53 => 0xBEE273AA#32
  | 54 => 0xBEEC6A50#32
  | 55 => 0xBEF64429#32
  | 56 => 0xBF000000#32
  | 57 => 0xBF04CE53#32
  | 58 => 0xBF098C78#32
  | 59 => 0xBF0E39DA#32
  | 60 => 0xBF12D5E8#32
  | 61 => 0xBF176012#32
  | 62 => 0xBF1BD7CA#32
  | 63 => 0xBF203C85#32
  | 64 => 0xBF248DBB#32
  | 65 => 0xBF28CAE3#32
  | 66 => 0xBF2CF37B#32
  | 67 => 0xBF310700#32
  | 68 => 0xBF3504F3#32
  | 69 => 0xBF38ECD8#32
  | 70 => 0xBF3CBE35#32
  | 71 => 0xBF407893#32
  | 72 => 0xBF441B7D#32
  | 73 => 0xBF47A682#32
  | 74 => 0xBF4B1934#32
  | 75 => 0xBF4E7327#32
  | 76 => 0xBF51B3F3#32
  | 77 => 0xBF54DB31#32
  | 78 => 0xBF57E880#32
  | 79 => 0xBF5ADB81#32
  | 80 => 0xBF5DB3D7#32
  | 81 => 0xBF60712A#32
  | 82 => 0xBF631324#32
  | 83 => 0xBF659974#32
  | 84 => 0xBF6803CA#32
  | 85 => 0xBF6A51DA#32
  | 86 => 0xBF6C835E#32
  | 87 => 0xBF6E9811#32
  | 88 => 0xBF708FB2#32
  | 89 => 0xBF726A03#32
  | 90 => 0xBF7426CB#32
  | 91 => 0xBF75C5D4#32
  | 92 => 0xBF7746EA#32
  | 93 => 0xBF78A9E0#32
  | 94 => 0xBF79EE89#32
  | 95 => 0xBF7B14BE#32
  | 96 => 0xBF7C1C5C#32
  | 97 => 0xBF7D0543#32
  | 98 => 0xBF7DCF55#32
  | 99 => 0xBF7E7A7A#32
  | 100 => 0xBF7F069E#32
  | 101 => 0xBF7F73AF#32
  | 102 => 0xBF7FC1A0#32
  | 103 => 0xBF7FF067#32
  | 104 => 0xBF800000#32
  | 105 => 0xBF7FF067#32
  | 106 => 0xBF7FC1A0#32
  | 107 => 0xBF7F73AF#32
  | 108 => 0xBF7F069E#32
  | 109 => 0xBF7E7A7A#32
  | 110 => 0xBF7DCF55#32
  | 111 => 0xBF7D0543#32
  | 112 => 0xBF7C1C5C#32
  | 113 => 0xBF7B14BE#32
  | 114 => 0xBF79EE89#32
  | 115 => 0xBF78A9E0#32
  | 116 => 0xBF7746EA#32
  | 117 => 0xBF75C5D4#32
  | 118 => 0xBF7426CB#32
  | 119 => 0xBF726A03#32
  | 120 => 0xBF708FB2#32
  | 121 => 0xBF6E9811#32
  | 122 => 0xBF6C835E#32
  | 123 => 0xBF6A51DA#32
  | 124 => 0xBF6803CA#32
  | 125 => 0xBF659974#32
  | 126 => 0xBF631324#32
  | 127 => 0xBF60712A#32
  | _ => 0#32

noncomputable abbrev lit1t0_3 (i : Nat) : BitVec 32 := match i % 128 with
  | 0 => 0xBF5DB3D7#32
  | 1 => 0xBF5ADB81#32
  | 2 => 0xBF57E880#32
  | 3 => 0xBF54DB31#32
  | 4 => 0xBF51B3F3#32
  | 5 => 0xBF4E7327#32
  | 6 => 0xBF4B1934#32
  | 7 => 0xBF47A682#32
  | 8 => 0xBF441B7D#32
  | 9 => 0xBF407893#32
  | 10 => 0xBF3CBE35#32
  | 11 => 0xBF38ECD8#32
  | 12 => 0xBF3504F3#32
  | 13 => 0xBF310700#32
  | 14 => 0xBF2CF37B#32
  | 15 => 0xBF28CAE3#32
  | 16 => 0xBF248DBB#32
  | 17 => 0xBF203C85#32
  | 18 => 0xBF1BD7CA#32
  | 19 => 0xBF176012#32
  | 20 => 0xBF12D5E8#32
  | 21 => 0xBF0E39DA#32
  | 22 => 0xBF098C78#32
  | 23 => 0xBF04CE53#32
  | 24 => 0xBF000000#32
  | 25 => 0xBEF64429#32
  | 26 => 0xBEEC6A50#32
  | 27 => 0xBEE273AA#32
  | 28 => 0xBED8616C#32
  | 29 => 0xBECE34D0#32
  | 30 => 0xBEC3EF15#32
  | 31 => 0xBEB9917B#32
  | 32 => 0xBEAF1D44#32
  | 33 => 0xBEA493B7#32
  | 34 => 0xBE99F61C#32
  | 35 => 0xBE8F45C0#32
  | 36 => 0xBE8483EE#32
  | 37 => 0xBE7363EE#32
  | 38 => 0xBE5DA259#32
  | 39 => 0xBE47C5C2#32
  | 40 => 0xBE31D0D4#32
  | 41 => 0xBE1BC63C#32
  | 42 => 0xBE05A8A8#32
  | 43 => 0xBDDEF599#32
  | 44 => 0xBDB27EB6#32
  | 45 => 0xBD85F213#32
  | 46 => 0xBD32AA3E#32
  | 47 => 0xBCB2B521#32
  | 48 => 0xA50D3132#32
  | 49 => 0x3CB2B521#32
  | 50 => 0x3D32AA3E#32
  | 51 => 0x3D85F213#32
  | 52 => 0x3DB27EB6#32
  | 53 => 0x3DDEF599#32
  | 54 => 0x3E05A8A8#32
  | 55 => 0x3E1BC63C#32
  | 56 => 0x3E31D0D4#32
  | 57 => 0x3E47C5C2#32
  | 58 => 0x3E5DA259#32
  | 59 => 0x3E7363EE#32
  | 60 => 0x3E8483EE#32
  | 61 => 0x3E8F45C0#32
  | 62 => 0x3E99F61C#32
  | 63 => 0x3EA493B7#32
  | 64 => 0x3EAF1D44#32
  | 65 => 0x3EB9917B#32
  | 66 => 0x3EC3EF15#32
  | 67 => 0x3ECE34D0#32
  | 68 => 0x3ED8616C#32
  | 69 => 0x3EE273AA#32
  | 70 => 0x3EEC6A50#32
  | 71 => 0x3EF64429#32
  | 72 => 0x3F000000#32
  | 73 => 0x3F04CE53#32
  | 74 => 0x3F098C78#32
  | 75 => 0x3F0E39DA#32
  | 76 => 0x3F12D5E8#32
  | 77 => 0x3F176012#32
  | 78 => 0x3F1BD7CA#32
  | 79 => 0x3F203C85#32
  | 80 => 0x3F248DBB#32
  | 81 => 0x3F28CAE3#32
  | 82 => 0x3F2CF37B#32
  | 83 => 0x3F310700#32
  | 84 => 0x3F3504F3#32
  | 85 => 0x3F38ECD8#32
  | 86 => 0x3F3CBE35#32
  | 87 => 0x3F407893#32
  | 88 => 0x3F441B7D#32
  | 89 => 0x3F47A682#32
  | 90 => 0x3F4B1934#32
  | 91 => 0x3F4E7327#32
  | 92 => 0x3F51B3F3#32
  | 93 => 0x3F54DB31#32
  | 94 => 0x3F57E880#32
  | 95 => 0x3F5ADB81#32
  | 96 => 0x3F5DB3D7#32
  | 97 => 0x3F60712A#32
  | 98 => 0x3F631324#32
  | 99 => 0x3F659974#32
  | 100 => 0x3F6803CA#32
  | 101 => 0x3F6A51DA#32
  | 102 => 0x3F6C835E#32
  | 103 => 0x3F6E9811#32
  | 104 => 0x3F708FB2#32
  | 105 => 0x3F726A03#32
  | 106 => 0x3F7426CB#32
  | 107 => 0x3F75C5D4#32
  | 108 => 0x3F7746EA#32
  | 109 => 0x3F78A9E0#32
  | 110 => 0x3F79EE89#32
  | 111 => 0x3F7B14BE#32
  | 112 => 0x3F7C1C5C#32
  | 113 => 0x3F7D0543#32
  | 114 => 0x3F7DCF55#32
  | 115 => 0x3F7E7A7A#32
  | 116 => 0x3F7F069E#32
  | 117 => 0x3F7F73AF#32
  | 118 => 0x3F7FC1A0#32
  | 119 => 0x3F7FF067#32
  | 120 => 0x3F800000#32
  | 121 => 0x3F7FF067#32
  | 122 => 0x3F7FC1A0#32
  | 123 => 0x3F7F73AF#32
  | 124 => 0x3F7F069E#32
  | 125 => 0x3F7E7A7A#32
  | 126 => 0x3F7DCF55#32
  | 127 => 0x3F7D0543#32
  | _ => 0#32

noncomputable abbrev lit1t0_4 (i : Nat) : BitVec 32 := match i % 128 with
  | 0 => 0x3F7C1C5C#32
  | 1 => 0x3F7B14BE#32
  | 2 => 0x3F79EE89#32
  | 3 => 0x3F78A9E0#32
  | 4 => 0x3F7746EA#32
  | 5 => 0x3F75C5D4#32
  | 6 => 0x3F7426CB#32
  | 7 => 0x3F726A03#32
  | 8 => 0x3F708FB2#32
  | 9 => 0x3F6E9811#32
  | 10 => 0x3F6C835E#32
  | 11 => 0x3F6A51DA#32
  | 12 => 0x3F6803CA#32
  | 13 => 0x3F659974#32
  | 14 => 0x3F631324#32
  | 15 => 0x3F60712A#32
  | 16 => 0x3F5DB3D7#32
  | 17 => 0x3F5ADB81#32
  | 18 => 0x3F57E880#32
  | 19 => 0x3F54DB31#32
  | 20 => 0x3F51B3F3#32
  | 21 => 0x3F4E7327#32
  | 22 => 0x3F4B1934#32
  | 23 => 0x3F47A682#32
  | 24 => 0x3F441B7D#32
  | 25 => 0x3F407893#32
  | 26 => 0x3F3CBE35#32
  | 27 => 0x3F38ECD8#32
  | 28 => 0x3F3504F3#32
  | 29 => 0x3F310700#32
  | 30 => 0x3F2CF37B#32
  | 31 => 0x3F28CAE3#32
  | 32 => 0x3F248DBB#32
  | 33 => 0x3F203C85#32
  | 34 => 0x3F1BD7CA#32
  | 35 => 0x3F176012#32
  | 36 => 0x3F12D5E8#32
  | 37 => 0x3F0E39DA#32
  | 38 => 0x3F098C78#32
  | 39 => 0x3F04CE53#32
  | 40 => 0x3F000000#32
  | 41 => 0x3EF64429#32
  | 42 => 0x3EEC6A50#32
  | 43 => 0x3EE273AA#32
  | 44 => 0x3ED8616C#32
  | 45 => 0x3ECE34D0#32
  | 46 => 0x3EC3EF15#32
  | 47 => 0x3EB9917B#32
  | 48 => 0x3EAF1D44#32
  | 49 => 0x3EA493B7#32
  | 50 => 0x3E99F61C#32
  | 51 => 0x3E8F45C0#32
  | 52 => 0x3E8483EE#32
  | 53 => 0x3E7363EE#32
  | 54 => 0x3E5DA259#32
  | 55 => 0x3E47C5C2#32
  | 56 => 0x3E31D0D4#32
  | 57 => 0x3E1BC63C#32
  | 58 => 0x3E05A8A8#32
  | 59 => 0x3DDEF599#32
  | 60 => 0x3DB27EB6#32
  | 61 => 0x3D85F213#32
  | 62 => 0x3D32AA3E#32
  | 63 => 0x3CB2B521#32
  | 64 => 0x80000000#32
  | 65 => 0xBD32AA3E#32
  | 66 => 0xBDB27EB6#32
  | 67 => 0xBE05A8A8#32
  | 68 => 0xBE31D0D4#32
  | 69 => 0xBE5DA259#32
  | 70 => 0xBE8483EE#32
  | 71 => 0xBE99F61C#32
  | 72 => 0xBEAF1D44#32
  | 73 => 0xBEC3EF15#32
  | 74 => 0xBED8616C#32
  | 75 => 0xBEEC6A50#32
  | 76 => 0xBF000000#32
  | 77 => 0xBF098C78#32
  | 78 => 0xBF12D5E8#32
  | 79 => 0xBF1BD7CA#32
  | 80 => 0xBF248DBB#32
  | 81 => 0xBF2CF37B#32
  | 82 => 0xBF3504F3#32
  | 83 => 0xBF3CBE35#32
  | 84 => 0xBF441B7D#32
  | 85 => 0xBF4B1934#32
  | 86 => 0xBF51B3F3#32
  | 87 => 0xBF57E880#32
  | 88 => 0xBF5DB3D7#32
  | 89 => 0xBF631324#32
  | 90 => 0xBF6803CA#32
  | 91 => 0xBF6C835E#32
  | 92 => 0xBF708FB2#32
  | 93 => 0xBF7426CB#32
  | 94 => 0xBF7746EA#32
  | 95 => 0xBF79EE89#32
  | 96 => 0xBF7C1C5C#32
  | 97 => 0xBF7DCF55#32
  | 98 => 0xBF7F069E#32
  | 99 => 0xBF7FC1A0#32
  | 100 => 0xBF800000#32
  | 101 => 0xBF7FC1A0#32
  | 102 => 0xBF7F069E#32
  | 103 => 0xBF7DCF55#32
  | 104 => 0xBF7C1C5C#32
  | 105 => 0xBF79EE89#32
  | 106 => 0xBF7746EA#32
  | 107 => 0xBF7426CB#32
  | 108 => 0xBF708FB2#32
  | 109 => 0xBF6C835E#32
  | 110 => 0xBF6803CA#32
  | 111 => 0xBF631324#32
  | 112 => 0xBF5DB3D7#32
  | 113 => 0xBF57E880#32
  | 114 => 0xBF51B3F3#32
  | 115 => 0xBF4B1934#32
  | 116 => 0xBF441B7D#32
  | 117 => 0xBF3CBE35#32
  | 118 => 0xBF3504F3#32
  | 119 => 0xBF2CF37B#32
  | 120 => 0xBF248DBB#32
  | 121 => 0xBF1BD7CA#32
  | 122 => 0xBF12D5E8#32
  | 123 => 0xBF098C78#32
  | 124 => 0xBF000000#32
  | 125 => 0xBEEC6A50#32
  | 126 => 0xBED8616C#32
  | 127 => 0xBEC3EF15#32
  | _ => 0#32

noncomputable abbrev lit1t0_5 (i : Nat) : BitVec 32 := match i % 128 with
  | 0 => 0xBEAF1D44#32
  | 1 => 0xBE99F61C#32
  | 2 => 0xBE8483EE#32
  | 3 => 0xBE5DA259#32
  | 4 => 0xBE31D0D4#32
  | 5 => 0xBE05A8A8#32
  | 6 => 0xBDB27EB6#32
  | 7 => 0xBD32AA3E#32
  | 8 => 0xA50D3132#32
  | 9 => 0x3D32AA3E#32
  | 10 => 0x3DB27EB6#32
  | 11 => 0x3E05A8A8#32
  | 12 => 0x3E31D0D4#32
  | 13 => 0x3E5DA259#32
  | 14 => 0x3E8483EE#32
  | 15 => 0x3E99F61C#32
  | 16 => 0x3EAF1D44#32
  | 17 => 0x3EC3EF15#32
  | 18 => 0x3ED8616C#32
  | 19 => 0x3EEC6A50#32
  | 20 => 0x3F000000#32
  | 21 => 0x3F098C78#32
  | 22 => 0x3F12D5E8#32
  | 23 => 0x3F1BD7CA#32
  | 24 => 0x3F248DBB#32
  | 25 => 0x3F2CF37B#32
  | 26 => 0x3F3504F3#32
  | 27 => 0x3F3CBE35#32
  | 28 => 0x3F441B7D#32
  | 29 => 0x3F4B1934#32
  | 30 => 0x3F51B3F3#32
  | 31 => 0x3F57E880#32
  | 32 => 0x3F5DB3D7#32
  | 33 => 0x3F631324#32
  | 34 => 0x3F6803CA#32
  | 35 => 0x3F6C835E#32
  | 36 => 0x3F708FB2#32
  | 37 => 0x3F7426CB#32
  | 38 => 0x3F7746EA#32
  | 39 => 0x3F79EE89#32
  | 40 => 0x3F7C1C5C#32
  | 41 => 0x3F7DCF55#32
  | 42 => 0x3F7F069E#32
  | 43 => 0x3F7FC1A0#32
  | 44 => 0x3F800000#32
  | 45 => 0x3F7FC1A0#32
  | 46 => 0x3F7F069E#32
  | 47 => 0x3F7DCF55#32
  | 48 => 0x3F7C1C5C#32
  | 49 => 0x3F79EE89#32
  | 50 => 0x3F7746EA#32
  | 51 => 0x3F7426CB#32
  | 52 => 0x3F708FB2#32
  | 53 => 0x3F6C835E#32
  | 54 => 0x3F6803CA#32
  | 55 => 0x3F631324#32
  | 56 => 0x3F5DB3D7#32
  | 57 => 0x3F57E880#32
  | 58 => 0x3F51B3F3#32
  | 59 => 0x3F4B1934#32
  | 60 => 0x3F441B7D#32
  | 61 => 0x3F3CBE35#32
  | 62 => 0x3F3504F3#32
  | 63 => 0x3F2CF37B#32
  | 64 => 0x3F248DBB#32
  | 65 => 0x3F1BD7CA#32
  | 66 => 0x3F12D5E8#32
  | 67 => 0x3F098C78#32
  | 68 => 0x3F000000#32
  | 69 => 0x3EEC6A50#32
  | 70 => 0x3ED8616C#32
  | 71 => 0x3EC3EF15#32
  | 72 => 0x3EAF1D44#32
  | 73 => 0x3E99F61C#32
  | 74 => 0x3E8483EE#32
  | 75 => 0x3E5DA259#32
  | 76 => 0x3E31D0D4#32
  | 77 => 0x3E05A8A8#32
  | 78 => 0x3DB27EB6#32
  | 79 => 0x3D32AA3E#32
  | 80 => 0x80000000#32
  | 81 => 0xBD32AA3E#32
  | 82 => 0xBDB27EB6#32
  | 83 => 0xBE05A8A8#32
  | 84 => 0xBE31D0D4#32
  | 85 => 0xBE5DA259#32
  | 86 => 0xBE8483EE#32
  | 87 => 0xBE99F61C#32
  | 88 => 0xBEAF1D44#32
  | 89 => 0xBEC3EF15#32
  | 90 => 0xBED8616C#32
  | 91 => 0xBEEC6A50#32
  | 92 => 0xBF000000#32
  | 93 => 0xBF098C78#32
  | 94 => 0xBF12D5E8#32
  | 95 => 0xBF1BD7CA#32
  | 96 => 0xBF248DBB#32
  | 97 => 0xBF2CF37B#32
  | 98 => 0xBF3504F3#32
  | 99 => 0xBF3CBE35#32
  | 100 => 0xBF441B7D#32
  | 101 => 0xBF4B1934#32
  | 102 => 0xBF51B3F3#32
  | 103 => 0xBF57E880#32
  | 104 => 0xBF5DB3D7#32
  | 105 => 0xBF631324#32
  | 106 => 0xBF6803CA#32
  | 107 => 0xBF6C835E#32
  | 108 => 0xBF708FB2#32
  | 109 => 0xBF7426CB#32
  | 110 => 0xBF7746EA#32
  | 111 => 0xBF79EE89#32
  | 112 => 0xBF7C1C5C#32
  | 113 => 0xBF7DCF55#32
  | 114 => 0xBF7F069E#32
  | 115 => 0xBF7FC1A0#32
  | 116 => 0xBF800000#32
  | 117 => 0xBF7FC1A0#32
  | 118 => 0xBF7F069E#32
  | 119 => 0xBF7DCF55#32
  | 120 => 0xBF7C1C5C#32
  | 121 => 0xBF79EE89#32
  | 122 => 0xBF7746EA#32
  | 123 => 0xBF7426CB#32
  | 124 => 0xBF708FB2#32
  | 125 => 0xBF6C835E#32
  | 126 => 0xBF6803CA#32
  | 127 => 0xBF631324#32
  | _ => 0#32

noncomputable abbrev lit1t0_6 (i : Nat) : BitVec 32 := match i % 128 with
  | 0 => 0xBF5DB3D7#32
  | 1 => 0xBF57E880#32
  | 2 => 0xBF51B3F3#32
  | 3 => 0xBF4B1934#32
  | 4 => 0xBF441B7D#32
  | 5 => 0xBF3CBE35#32
  | 6 => 0xBF3504F3#32
  | 7 => 0xBF2CF37B#32
  | 8 => 0xBF248DBB#32
  | 9 => 0xBF1BD7CA#32
  | 10 => 0xBF12D5E8#32
  | 11 => 0xBF098C78#32
  | 12 => 0xBF000000#32
  | 13 => 0xBEEC6A50#32
  | 14 => 0xBED8616C#32
  | 15 => 0xBEC3EF15#32
  | 16 => 0xBEAF1D44#32
  | 17 => 0xBE99F61C#32
  | 18 => 0xBE8483EE#32
  | 19 => 0xBE5DA259#32
  | 20 => 0xBE31D0D4#32
  | 21 => 0xBE05A8A8#32
  | 22 => 0xBDB27EB6#32
  | 23 => 0xBD32AA3E#32
  | 24 => 0xA50D3132#32
  | 25 => 0x3D32AA3E#32
  | 26 => 0x3DB27EB6#32
  | 27 => 0x3E05A8A8#32
  | 28 => 0x3E31D0D4#32
  | 29 => 0x3E5DA259#32
  | 30 => 0x3E8483EE#32
  | 31 => 0x3E99F61C#32
  | 32 => 0x3EAF1D44#32
  | 33 => 0x3EC3EF15#32
  | 34 => 0x3ED8616C#32
  | 35 => 0x3EEC6A50#32
  | 36 => 0x3F000000#32
  | 37 => 0x3F098C78#32
  | 38 => 0x3F12D5E8#32
  | 39 => 0x3F1BD7CA#32
  | 40 => 0x3F248DBB#32
  | 41 => 0x3F2CF37B#32
  | 42 => 0x3F3504F3#32
  | 43 => 0x3F3CBE35#32
  | 44 => 0x3F441B7D#32
  | 45 => 0x3F4B1934#32
  | 46 => 0x3F51B3F3#32
  | 47 => 0x3F57E880#32
  | 48 => 0x3F5DB3D7#32
  | 49 => 0x3F631324#32
  | 50 => 0x3F6803CA#32
  | 51 => 0x3F6C835E#32
  | 52 => 0x3F708FB2#32
  | 53 => 0x3F7426CB#32
  | 54 => 0x3F7746EA#32
  | 55 => 0x3F79EE89#32
  | 56 => 0x3F7C1C5C#32
  | 57 => 0x3F7DCF55#32
  | 58 => 0x3F7F069E#32
  | 59 => 0x3F7FC1A0#32
  | 60 => 0x3F800000#32
  | 61 => 0x3F7FC1A0#32
  | 62 => 0x3F7F069E#32
  | 63 => 0x3F7DCF55#32
  | 64 => 0x3F7C1C5C#32
  | 65 => 0x3F79EE89#32
  | 66 => 0x3F7746EA#32
  | 67 => 0x3F7426CB#32
  | 68 => 0x3F708FB2#32
  | 69 => 0x3F6C835E#32
  | 70 => 0x3F6803CA#32
  | 71 => 0x3F631324#32
  | 72 => 0x3F5DB3D7#32
  | 73 => 0x3F57E880#32
  | 74 => 0x3F51B3F3#32
  | 75 => 0x3F4B1934#32
  | 76 => 0x3F441B7D#32
  | 77 => 0x3F3CBE35#32
  | 78 => 0x3F3504F3#32
  | 79 => 0x3F2CF37B#32
  | 80 => 0x3F248DBB#32
  | 81 => 0x3F1BD7CA#32
  | 82 => 0x3F12D5E8#32
  | 83 => 0x3F098C78#32
  | 84 => 0x3F000000#32
  | 85 => 0x3EEC6A50#32
  | 86 => 0x3ED8616C#32
  | 87 => 0x3EC3EF15#32
  | 88 => 0x3EAF1D44#32
  | 89 => 0x3E99F61C#32
  | 90 => 0x3E8483EE#32
  | 91 => 0x3E5DA259#32
  | 92 => 0x3E31D0D4#32
  | 93 => 0x3E05A8A8#32
  | 94 => 0x3DB27EB6#32
  | 95 => 0x3D32AA3E#32
  | 96 => 0x80000000#32
  | 97 => 0xBD85F213#32
  | 98 => 0xBE05A8A8#32
  | 99 => 0xBE47C5C2#32
  | 100 => 0xBE8483EE#32
  | 101 => 0xBEA493B7#32
  | 102 => 0xBEC3EF15#32
  | 103 => 0xBEE273AA#32
  | 104 => 0xBF000000#32
  | 105 => 0xBF0E39DA#32
  | 106 => 0xBF1BD7CA#32
  | 107 => 0xBF28CAE3#32
  | 108 => 0xBF3504F3#32
  | 109 => 0xBF407893#32
  | 110 => 0xBF4B1934#32
  | 111 => 0xBF54DB31#32
  | 112 => 0xBF5DB3D7#32
  | 113 => 0xBF659974#32
  | 114 => 0xBF6C835E#32
  | 115 => 0xBF726A03#32
  | 116 => 0xBF7746EA#32
  | 117 => 0xBF7B14BE#32
  | 118 => 0xBF7DCF55#32
  | 119 => 0xBF7F73AF#32
  | 120 => 0xBF800000#32
  | 121 => 0xBF7F73AF#32
  | 122 => 0xBF7DCF55#32
  | 123 => 0xBF7B14BE#32
  | 124 => 0xBF7746EA#32
  | 125 => 0xBF726A03#32
  | 126 => 0xBF6C835E#32
  | 127 => 0xBF659974#32
  | _ => 0#32

noncomputable abbrev lit1t0_7 (i : Nat) : BitVec 32 := match i % 128 with
  | 0 => 0xBF5DB3D7#32
  | 1 => 0xBF54DB31#32
  | 2 => 0xBF4B1934#32
  | 3 => 0xBF407893#32
  | 4 => 0xBF3504F3#32
  | 5 => 0xBF28CAE3#32
  | 6 => 0xBF1BD7CA#32
  | 7 => 0xBF0E39DA#32
  | 8 => 0xBF000000#32
  | 9 => 0xBEE273AA#32
  | 10 => 0xBEC3EF15#32
  | 11 => 0xBEA493B7#32
  | 12 => 0xBE8483EE#32
  | 13 => 0xBE47C5C2#32
  | 14 => 0xBE05A8A8#32
  | 15 => 0xBD85F213#32
  | 16 => 0xA50D3132#32
  | 17 => 0x3D85F213#32
  | 18 => 0x3E05A8A8#32
  | 19 => 0x3E47C5C2#32
  | 20 => 0x3E8483EE#32
  | 21 => 0x3EA493B7#32
  | 22 => 0x3EC3EF15#32
  | 23 => 0x3EE273AA#32
  | 24 => 0x3F000000#32
  | 25 => 0x3F0E39DA#32
  | 26 => 0x3F1BD7CA#32
  | 27 => 0x3F28CAE3#32
  | 28 => 0x3F3504F3#32
  | 29 => 0x3F407893#32
  | 30 => 0x3F4B1934#32
  | 31 => 0x3F54DB31#32
  | 32 => 0x3F5DB3D7#32
  | 33 => 0x3F659974#32
  | 34 => 0x3F6C835E#32
  | 35 => 0x3F726A03#32
  | 36 => 0x3F7746EA#32
  | 37 => 0x3F7B14BE#32
  | 38 => 0x3F7DCF55#32
  | 39 => 0x3F7F73AF#32
  | 40 => 0x3F800000#32
  | 41 => 0x3F7F73AF#32
  | 42 => 0x3F7DCF55#32
  | 43 => 0x3F7B14BE#32
  | 44 => 0x3F7746EA#32
  | 45 => 0x3F726A03#32
  | 46 => 0x3F6C835E#32
  | 47 => 0x3F659974#32
  | 48 => 0x3F5DB3D7#32
  | 49 => 0x3F54DB31#32
  | 50 => 0x3F4B1934#32
  | 51 => 0x3F407893#32
  | 52 => 0x3F3504F3#32
  | 53 => 0x3F28CAE3#32
  | 54 => 0x3F1BD7CA#32
  | 55 => 0x3F0E39DA#32
  | 56 => 0x3F000000#32
  | 57 => 0x3EE273AA#32
  | 58 => 0x3EC3EF15#32
  | 59 => 0x3EA493B7#32
  | 60 => 0x3E8483EE#32
  | 61 => 0x3E47C5C2#32
  | 62 => 0x3E05A8A8#32
  | 63 => 0x3D85F213#32
  | 64 => 0x80000000#32
  | 65 => 0xBD85F213#32
  | 66 => 0xBE05A8A8#32
  | 67 => 0xBE47C5C2#32
  | 68 => 0xBE8483EE#32
  | 69 => 0xBEA493B7#32
  | 70 => 0xBEC3EF15#32
  | 71 => 0xBEE273AA#32
  | 72 => 0xBF000000#32
  | 73 => 0xBF0E39DA#32
  | 74 => 0xBF1BD7CA#32
  | 75 => 0xBF28CAE3#32
  | 76 => 0xBF3504F3#32
  | 77 => 0xBF407893#32
  | 78 => 0xBF4B1934#32
  | 79 => 0xBF54DB31#32
  | 80 => 0xBF5DB3D7#32
  | 81 => 0xBF659974#32
  | 82 => 0xBF6C835E#32
  | 83 => 0xBF726A03#32
  | 84 => 0xBF7746EA#32
  | 85 => 0xBF7B14BE#32
  | 86 => 0xBF7DCF55#32
  | 87 => 0xBF7F73AF#32
  | 88 => 0xBF800000#32
  | 89 => 0xBF7F73AF#32
  | 90 => 0xBF7DCF55#32
  | 91 => 0xBF7B14BE#32
  | 92 => 0xBF7746EA#32
  | 93 => 0xBF726A03#32
  | 94 => 0xBF6C835E#32
  | 95 => 0xBF659974#32
  | 96 => 0xBF5DB3D7#32
  | 97 => 0xBF54DB31#32
  | 98 => 0xBF4B1934#32
  | 99 => 0xBF407893#32
  | 100 => 0xBF3504F3#32
  | 101 => 0xBF28CAE3#32
  | 102 => 0xBF1BD7CA#32
  | 103 => 0xBF0E39DA#32
  | 104 => 0xBF000000#32
  | 105 => 0xBEE273AA#32
  | 106 => 0xBEC3EF15#32
  | 107 => 0xBEA493B7#32
  | 108 => 0xBE8483EE#32
  | 109 => 0xBE47C5C2#32
  | 110 => 0xBE05A8A8#32
  | 111 => 0xBD85F213#32
  | 112 => 0xA50D3132#32
  | 113 => 0x3D85F213#32
  | 114 => 0x3E05A8A8#32
  | 115 => 0x3E47C5C2#32
  | 116 => 0x3E8483EE#32
  | 117 => 0x3EA493B7#32
  | 118 => 0x3EC3EF15#32
  | 119 => 0x3EE273AA#32
  | 120 => 0x3F000000#32
  | 121 => 0x3F0E39DA#32
  | 122 => 0x3F1BD7CA#32
  | 123 => 0x3F28CAE3#32
  | 124 => 0x3F3504F3#32
  | 125 => 0x3F407893#32
  | 126 => 0x3F4B1934#32
  | 127 => 0x3F54DB31#32
  | _ => 0#32

noncomputable abbrev lit1t0_8 (i : Nat) : BitVec 32 := match i % 128 with
  | 0 => 0x3F5DB3D7#32
  | 1 => 0x3F659974#32
  | 2 => 0x3F6C835E#32
  | 3 => 0x3F726A03#32
  | 4 => 0x3F7746EA#32
  | 5 => 0x3F7B14BE#32
  | 6 => 0x3F7DCF55#32
  | 7 => 0x3F7F73AF#32
  | 8 => 0x3F800000#32
  | 9 => 0x3F7F73AF#32
  | 10 => 0x3F7DCF55#32
  | 11 => 0x3F7B14BE#32
  | 12 => 0x3F7746EA#32
  | 13 => 0x3F726A03#32
  | 14 => 0x3F6C835E#32
  | 15 => 0x3F659974#32
  | 16 => 0x3F5DB3D7#32
  | 17 => 0x3F54DB31#32
  | 18 => 0x3F4B1934#32
  | 19 => 0x3F407893#32
  | 20 => 0x3F3504F3#32
  | 21 => 0x3F28CAE3#32
  | 22 => 0x3F1BD7CA#32
  | 23 => 0x3F0E39DA#32
  | 24 => 0x3F000000#32
  | 25 => 0x3EE273AA#32
  | 26 => 0x3EC3EF15#32
  | 27 => 0x3EA493B7#32
  | 28 => 0x3E8483EE#32
  | 29 => 0x3E47C5C2#32
  | 30 => 0x3E05A8A8#32
  | 31 => 0x3D85F213#32
  | 32 => 0x80000000#32
  | 33 => 0xBD85F213#32
  | 34 => 0xBE05A8A8#32
  | 35 => 0xBE47C5C2#32
  | 36 => 0xBE8483EE#32
  | 37 => 0xBEA493B7#32
  | 38 => 0xBEC3EF15#32
  | 39 => 0xBEE273AA#32
  | 40 => 0xBF000000#32
  | 41 => 0xBF0E39DA#32
  | 42 => 0xBF1BD7CA#32
  | 43 => 0xBF28CAE3#32
  | 44 => 0xBF3504F3#32
  | 45 => 0xBF407893#32
  | 46 => 0xBF4B1934#32
  | 47 => 0xBF54DB31#32
  | 48 => 0xBF5DB3D7#32
  | 49 => 0xBF659974#32
  | 50 => 0xBF6C835E#32
  | 51 => 0xBF726A03#32
  | 52 => 0xBF7746EA#32
  | 53 => 0xBF7B14BE#32
  | 54 => 0xBF7DCF55#32
  | 55 => 0xBF7F73AF#32
  | 56 => 0xBF800000#32
  | 57 => 0xBF7F73AF#32
  | 58 => 0xBF7DCF55#32
  | 59 => 0xBF7B14BE#32
  | 60 => 0xBF7746EA#32
  | 61 => 0xBF726A03#32
  | 62 => 0xBF6C835E#32
  | 63 => 0xBF659974#32
  | 64 => 0xBF5DB3D7#32
  | 65 => 0xBF54DB31#32
  | 66 => 0xBF4B1934#32
  | 67 => 0xBF407893#32
  | 68 => 0xBF3504F3#32
  | 69 => 0xBF28CAE3#32
  | 70 => 0xBF1BD7CA#32
  | 71 => 0xBF0E39DA#32
  | 72 => 0xBF000000#32
  | 73 => 0xBEE273AA#32
  | 74 => 0xBEC3EF15#32
  | 75 => 0xBEA493B7#32
  | 76 => 0xBE8483EE#32
  | 77 => 0xBE47C5C2#32
  | 78 => 0xBE05A8A8#32
  | 79 => 0xBD85F213#32
  | 80 => 0xA50D3132#32
  | 81 => 0x3D85F213#32
  | 82 => 0x3E05A8A8#32
  | 83 => 0x3E47C5C2#32
  | 84 => 0x3E8483EE#32
  | 85 => 0x3EA493B7#32
  | 86 => 0x3EC3EF15#32
  | 87 => 0x3EE273AA#32
  | 88 => 0x3F000000#32
  | 89 => 0x3F0E39DA#32
  | 90 => 0x3F1BD7CA#32
  | 91 => 0x3F28CAE3#32
  | 92 => 0x3F3504F3#32
  | 93 => 0x3F407893#32
  | 94 => 0x3F4B1934#32
  | 95 => 0x3F54DB31#32
  | 96 => 0x3F5DB3D7#32
  | 97 => 0x3F659974#32
  | 98 => 0x3F6C835E#32
  | 99 => 0x3F726A03#32
  | 100 => 0x3F7746EA#32
  | 101 => 0x3F7B14BE#32
  | 102 => 0x3F7DCF55#32
  | 103 => 0x3F7F73AF#32
  | 104 => 0x3F800000#32
  | 105 => 0x3F7F73AF#32
  | 106 => 0x3F7DCF55#32
  | 107 => 0x3F7B14BE#32
  | 108 => 0x3F7746EA#32
  | 109 => 0x3F726A03#32
  | 110 => 0x3F6C835E#32
  | 111 => 0x3F659974#32
  | 112 => 0x3F5DB3D7#32
  | 113 => 0x3F54DB31#32
  | 114 => 0x3F4B1934#32
  | 115 => 0x3F407893#32
  | 116 => 0x3F3504F3#32
  | 117 => 0x3F28CAE3#32
  | 118 => 0x3F1BD7CA#32
  | 119 => 0x3F0E39DA#32
  | 120 => 0x3F000000#32
  | 121 => 0x3EE273AA#32
  | 122 => 0x3EC3EF15#32
  | 123 => 0x3EA493B7#32
  | 124 => 0x3E8483EE#32
  | 125 => 0x3E47C5C2#32
  | 126 => 0x3E05A8A8#32
  | 127 => 0x3D85F213#32
  | _ => 0#32

noncomputable abbrev lit1t0_9 (i : Nat) : BitVec 32 := match i % 128 with
  | 0 => 0x80000000#32
  | 1 => 0xBDB27EB6#32
  | 2 => 0xBE31D0D4#32
  | 3 => 0xBE8483EE#32
  | 4 => 0xBEAF1D44#32
  | 5 => 0xBED8616C#32
  | 6 => 0xBF000000#32
  | 7 => 0xBF12D5E8#32
  | 8 => 0xBF248DBB#32
  | 9 => 0xBF3504F3#32
  | 10 => 0xBF441B7D#32
  | 11 => 0xBF51B3F3#32
  | 12 => 0xBF5DB3D7#32
  | 13 => 0xBF6803CA#32
  | 14 => 0xBF708FB2#32
  | 15 => 0xBF7746EA#32
  | 16 => 0xBF7C1C5C#32
  | 17 => 0xBF7F069E#32
  | 18 => 0xBF800000#32
  | 19 => 0xBF7F069E#32
  | 20 => 0xBF7C1C5C#32
  | 21 => 0xBF7746EA#32
  | 22 => 0xBF708FB2#32
  | 23 => 0xBF6803CA#32
  | 24 => 0xBF5DB3D7#32
  | 25 => 0xBF51B3F3#32
  | 26 => 0xBF441B7D#32
  | 27 => 0xBF3504F3#32
  | 28 => 0xBF248DBB#32
  | 29 => 0xBF12D5E8#32
  | 30 => 0xBF000000#32
  | 31 => 0xBED8616C#32
  | 32 => 0xBEAF1D44#32
  | 33 => 0xBE8483EE#32
  | 34 => 0xBE31D0D4#32
  | 35 => 0xBDB27EB6#32
  | 36 => 0xA50D3132#32
  | 37 => 0x3DB27EB6#32
  | 38 => 0x3E31D0D4#32
  | 39 => 0x3E8483EE#32
  | 40 => 0x3EAF1D44#32
  | 41 => 0x3ED8616C#32
  | 42 => 0x3F000000#32
  | 43 => 0x3F12D5E8#32
  | 44 => 0x3F248DBB#32
  | 45 => 0x3F3504F3#32
  | 46 => 0x3F441B7D#32
  | 47 => 0x3F51B3F3#32
  | 48 => 0x3F5DB3D7#32
  | 49 => 0x3F6803CA#32
  | 50 => 0x3F708FB2#32
  | 51 => 0x3F7746EA#32
  | 52 => 0x3F7C1C5C#32
  | 53 => 0x3F7F069E#32
  | 54 => 0x3F800000#32
  | 55 => 0x3F7F069E#32
  | 56 => 0x3F7C1C5C#32
  | 57 => 0x3F7746EA#32
  | 58 => 0x3F708FB2#32
  | 59 => 0x3F6803CA#32
  | 60 => 0x3F5DB3D7#32
  | 61 => 0x3F51B3F3#32
  | 62 => 0x3F441B7D#32
  | 63 => 0x3F3504F3#32
  | 64 => 0x3F248DBB#32
  | 65 => 0x3F12D5E8#32
  | 66 => 0x3F000000#32
  | 67 => 0x3ED8616C#32
  | 68 => 0x3EAF1D44#32
  | 69 => 0x3E8483EE#32
  | 70 => 0x3E31D0D4#32
  | 71 => 0x3DB27EB6#32
  | 72 => 0x80000000#32
  | 73 => 0xBDB27EB6#32
  | 74 => 0xBE31D0D4#32
  | 75 => 0xBE8483EE#32
  | 76 => 0xBEAF1D44#32
  | 77 => 0xBED8616C#32
  | 78 => 0xBF000000#32
  | 79 => 0xBF12D5E8#32
  | 80 => 0xBF248DBB#32
  | 81 => 0xBF3504F3#32
  | 82 => 0xBF441B7D#32
  | 83 => 0xBF51B3F3#32
  | 84 => 0xBF5DB3D7#32
  | 85 => 0xBF6803CA#32
  | 86 => 0xBF708FB2#32
  | 87 => 0xBF7746EA#32
  | 88 => 0xBF7C1C5C#32
  | 89 => 0xBF7F069E#32
  | 90 => 0xBF800000#32
  | 91 => 0xBF7F069E#32
  | 92 => 0xBF7C1C5C#32
  | 93 => 0xBF7746EA#32
  | 94 => 0xBF708FB2#32
  | 95 => 0xBF6803CA#32
  | 96 => 0xBF5DB3D7#32
  | 97 => 0xBF51B3F3#32
  | 98 => 0xBF441B7D#32
  | 99 => 0xBF3504F3#32
  | 100 => 0xBF248DBB#32
  | 101 => 0xBF12D5E8#32
  | 102 => 0xBF000000#32
  | 103 => 0xBED8616C#32
  | 104 => 0xBEAF1D44#32
  | 105 => 0xBE8483EE#32
  | 106 => 0xBE31D0D4#32
  | 107 => 0xBDB27EB6#32
  | 108 => 0xA50D3132#32
  | 109 => 0x3DB27EB6#32
  | 110 => 0x3E31D0D4#32
  | 111 => 0x3E8483EE#32
  | 112 => 0x3EAF1D44#32
  | 113 => 0x3ED8616C#32
  | 114 => 0x3F000000#32
  | 115 => 0x3F12D5E8#32
  | 116 => 0x3F248DBB#32
  | 117 => 0x3F3504F3#32
  | 118 => 0x3F441B7D#32
  | 119 => 0x3F51B3F3#32
  | 120 => 0x3F5DB3D7#32
  | 121 => 0x3F6803CA#32
  | 122 => 0x3F708FB2#32
  | 123 => 0x3F7746EA#32
  | 124 => 0x3F7C1C5C#32
  | 125 => 0x3F7F069E#32
  | 126 => 0x3F800000#32
  | 127 => 0x3F7F069E#32
  | _ => 0#32

noncomputable abbrev lit1t0_10 (i : Nat) : BitVec 32 := match i % 128 with
  | 0 => 0x3F7C1C5C#32
  | 1 => 0x3F7746EA#32
  | 2 => 0x3F708FB2#32
  | 3 => 0x3F6803CA#32
  | 4 => 0x3F5DB3D7#32
  | 5 => 0x3F51B3F3#32
  | 6 => 0x3F441B7D#32
  | 7 => 0x3F3504F3#32
  | 8 => 0x3F248DBB#32
  | 9 => 0x3F12D5E8#32
  | 10 => 0x3F000000#32
  | 11 => 0x3ED8616C#32
  | 12 => 0x3EAF1D44#32
  | 13 => 0x3E8483EE#32
  | 14 => 0x3E31D0D4#32
  | 15 => 0x3DB27EB6#32
  | 16 => 0x80000000#32
  | 17 => 0xBDB27EB6#32
  | 18 => 0xBE31D0D4#32
  | 19 => 0xBE8483EE#32
  | 20 => 0xBEAF1D44#32
  | 21 => 0xBED8616C#32
  | 22 => 0xBF000000#32
  | 23 => 0xBF12D5E8#32
  | 24 => 0xBF248DBB#32
  | 25 => 0xBF3504F3#32
  | 26 => 0xBF441B7D#32
  | 27 => 0xBF51B3F3#32
  | 28 => 0xBF5DB3D7#32
  | 29 => 0xBF6803CA#32
  | 30 => 0xBF708FB2#32
  | 31 => 0xBF7746EA#32
  | 32 => 0xBF7C1C5C#32
  | 33 => 0xBF7F069E#32
  | 34 => 0xBF800000#32
  | 35 => 0xBF7F069E#32
  | 36 => 0xBF7C1C5C#32
  | 37 => 0xBF7746EA#32
  | 38 => 0xBF708FB2#32
  | 39 => 0xBF6803CA#32
  | 40 => 0xBF5DB3D7#32
  | 41 => 0xBF51B3F3#32
  | 42 => 0xBF441B7D#32
  | 43 => 0xBF3504F3#32
  | 44 => 0xBF248DBB#32
  | 45 => 0xBF12D5E8#32
  | 46 => 0xBF000000#32
  | 47 => 0xBED8616C#32
  | 48 => 0xBEAF1D44#32
  | 49 => 0xBE8483EE#32
  | 50 => 0xBE31D0D4#32
  | 51 => 0xBDB27EB6#32
  | 52 => 0xA50D3132#32
  | 53 => 0x3DB27EB6#32
  | 54 => 0x3E31D0D4#32
  | 55 => 0x3E8483EE#32
  | 56 => 0x3EAF1D44#32
  | 57 => 0x3ED8616C#32
  | 58 => 0x3F000000#32
  | 59 => 0x3F12D5E8#32
  | 60 => 0x3F248DBB#32
  | 61 => 0x3F3504F3#32
  | 62 => 0x3F441B7D#32
  | 63 => 0x3F51B3F3#32
  | 64 => 0x3F5DB3D7#32
  | 65 => 0x3F6803CA#32
  | 66 => 0x3F708FB2#32
  | 67 => 0x3F7746EA#32
  | 68 => 0x3F7C1C5C#32
  | 69 => 0x3F7F069E#32
  | 70 => 0x3F800000#32
  | 71 => 0x3F7F069E#32
  | 72 => 0x3F7C1C5C#32
  | 73 => 0x3F7746EA#32
  | 74 => 0x3F708FB2#32
  | 75 => 0x3F6803CA#32
  | 76 => 0x3F5DB3D7#32
  | 77 => 0x3F51B3F3#32
  | 78 => 0x3F441B7D#32
  | 79 => 0x3F3504F3#32
  | 80 => 0x3F248DBB#32
  | 81 => 0x3F12D5E8#32
  | 82 => 0x3F000000#32
  | 83 => 0x3ED8616C#32
  | 84 => 0x3EAF1D44#32
  | 85 => 0x3E8483EE#32
  | 86 => 0x3E31D0D4#32
  | 87 => 0x3DB27EB6#32
  | 88 => 0x80000000#32
  | 89 => 0xBDB27EB6#32
  | 90 => 0xBE31D0D4#32
  | 91 => 0xBE8483EE#32
  | 92 => 0xBEAF1D44#32
  | 93 => 0xBED8616C#32
  | 94 => 0xBF000000#32
  | 95 => 0xBF12D5E8#32
  | 96 => 0xBF248DBB#32
  | 97 => 0xBF3504F3#32
  | 98 => 0xBF441B7D#32
  | 99 => 0xBF51B3F3#32
  | 100 => 0xBF5DB3D7#32
  | 101 => 0xBF6803CA#32
  | 102 => 0xBF708FB2#32
  | 103 => 0xBF7746EA#32
  | 104 => 0xBF7C1C5C#32
  | 105 => 0xBF7F069E#32
  | 106 => 0xBF800000#32
  | 107 => 0xBF7F069E#32
  | 108 => 0xBF7C1C5C#32
  | 109 => 0xBF7746EA#32
  | 110 => 0xBF708FB2#32
  | 111 => 0xBF6803CA#32
  | 112 => 0xBF5DB3D7#32
  | 113 => 0xBF51B3F3#32
  | 114 => 0xBF441B7D#32
  | 115 => 0xBF3504F3#32
  | 116 => 0xBF248DBB#32
  | 117 => 0xBF12D5E8#32
  | 118 => 0xBF000000#32
  | 119 => 0xBED8616C#32
  | 120 => 0xBEAF1D44#32
  | 121 => 0xBE8483EE#32
  | 122 => 0xBE31D0D4#32
  | 123 => 0xBDB27EB6#32
  | 124 => 0xA50D3132#32
  | 125 => 0x3DB27EB6#32
  | 126 => 0x3E31D0D4#32
  | 127 => 0x3E8483EE#32
  | _ => 0#32

noncomputable abbrev lit1t0_11 (i : Nat) : BitVec 32 := match i % 128 with
  | 0 => 0x3EAF1D44#32
  | 1 => 0x3ED8616C#32
  | 2 => 0x3F000000#32
  | 3 => 0x3F12D5E8#32
  | 4 => 0x3F248DBB#32
  | 5 => 0x3F3504F3#32
  | 6 => 0x3F441B7D#32
  | 7 => 0x3F51B3F3#32
  | 8 => 0x3F5DB3D7#32
  | 9 => 0x3F6803CA#32
  | 10 => 0x3F708FB2#32
  | 11 => 0x3F7746EA#32
  | 12 => 0x3F7C1C5C#32
  | 13 => 0x3F7F069E#32
  | 14 => 0x3F800000#32
  | 15 => 0x3F7F069E#32
  | 16 => 0x3F7C1C5C#32
  | 17 => 0x3F7746EA#32
  | 18 => 0x3F708FB2#32
  | 19 => 0x3F6803CA#32
  | 20 => 0x3F5DB3D7#32
  | 21 => 0x3F51B3F3#32
  | 22 => 0x3F441B7D#32
  | 23 => 0x3F3504F3#32
  | 24 => 0x3F248DBB#32
  | 25 => 0x3F12D5E8#32
  | 26 => 0x3F000000#32
  | 27 => 0x3ED8616C#32
  | 28 => 0x3EAF1D44#32
  | 29 => 0x3E8483EE#32
  | 30 => 0x3E31D0D4#32
  | 31 => 0x3DB27EB6#32
  | 32 => 0x80000000#32
  | 33 => 0xBDDEF599#32
  | 34 => 0xBE5DA259#32
  | 35 => 0xBEA493B7#32
  | 36 => 0xBED8616C#32
  | 37 => 0xBF04CE53#32
  | 38 => 0xBF1BD7CA#32
  | 39 => 0xBF310700#32
  | 40 => 0xBF441B7D#32
  | 41 => 0xBF54DB31#32
  | 42 => 0xBF631324#32
  | 43 => 0xBF6E9811#32
  | 44 => 0xBF7746EA#32
  | 45 => 0xBF7D0543#32
  | 46 => 0xBF7FC1A0#32
  | 47 => 0xBF7F73AF#32
  | 48 => 0xBF7C1C5C#32
  | 49 => 0xBF75C5D4#32
  | 50 => 0xBF6C835E#32
  | 51 => 0xBF60712A#32
  | 52 => 0xBF51B3F3#32
  | 53 => 0xBF407893#32
  | 54 => 0xBF2CF37B#32
  | 55 => 0xBF176012#32
  | 56 => 0xBF000000#32
  | 57 => 0xBECE34D0#32
  | 58 => 0xBE99F61C#32
  | 59 => 0xBE47C5C2#32
  | 60 => 0xBDB27EB6#32
  | 61 => 0x3CB2B521#32
  | 62 => 0x3E05A8A8#32
  | 63 => 0x3E7363EE#32
  | 64 => 0x3EAF1D44#32
  | 65 => 0x3EE273AA#32
  | 66 => 0x3F098C78#32
  | 67 => 0x3F203C85#32
  | 68 => 0x3F3504F3#32
  | 69 => 0x3F47A682#32
  | 70 => 0x3F57E880#32
  | 71 => 0x3F659974#32
  | 72 => 0x3F708FB2#32
  | 73 => 0x3F78A9E0#32
  | 74 => 0x3F7DCF55#32
  | 75 => 0x3F7FF067#32
  | 76 => 0x3F7F069E#32
  | 77 => 0x3F7B14BE#32
  | 78 => 0x3F7426CB#32
  | 79 => 0x3F6A51DA#32
  | 80 => 0x3F5DB3D7#32
  | 81 => 0x3F4E7327#32
  | 82 => 0x3F3CBE35#32
  | 83 => 0x3F28CAE3#32
  | 84 => 0x3F12D5E8#32
  | 85 => 0x3EF64429#32
  | 86 => 0x3EC3EF15#32
  | 87 => 0x3E8F45C0#32
  | 88 => 0x3E31D0D4#32
  | 89 => 0x3D85F213#32
  | 90 => 0xBD32AA3E#32
  | 91 => 0xBE1BC63C#32
  | 92 => 0xBE8483EE#32
  | 93 => 0xBEB9917B#32
  | 94 => 0xBEEC6A50#32
  | 95 => 0xBF0E39DA#32
  | 96 => 0xBF248DBB#32
  | 97 => 0xBF38ECD8#32
  | 98 => 0xBF4B1934#32
  | 99 => 0xBF5ADB81#32
  | 100 => 0xBF6803CA#32
  | 101 => 0xBF726A03#32
  | 102 => 0xBF79EE89#32
  | 103 => 0xBF7E7A7A#32
  | 104 => 0xBF800000#32
  | 105 => 0xBF7E7A7A#32
  | 106 => 0xBF79EE89#32
  | 107 => 0xBF726A03#32
  | 108 => 0xBF6803CA#32
  | 109 => 0xBF5ADB81#32
  | 110 => 0xBF4B1934#32
  | 111 => 0xBF38ECD8#32
  | 112 => 0xBF248DBB#32
  | 113 => 0xBF0E39DA#32
  | 114 => 0xBEEC6A50#32
  | 115 => 0xBEB9917B#32
  | 116 => 0xBE8483EE#32
  | 117 => 0xBE1BC63C#32
  | 118 => 0xBD32AA3E#32
  | 119 => 0x3D85F213#32
  | 120 => 0x3E31D0D4#32
  | 121 => 0x3E8F45C0#32
  | 122 => 0x3EC3EF15#32
  | 123 => 0x3EF64429#32
  | 124 => 0x3F12D5E8#32
  | 125 => 0x3F28CAE3#32
  | 126 => 0x3F3CBE35#32
  | 127 => 0x3F4E7327#32
  | _ => 0#32

noncomputable abbrev lit1t0_12 (i : Nat) : BitVec 32 := match i % 128 with
  | 0 => 0x3F5DB3D7#32
  | 1 => 0x3F6A51DA#32
  | 2 => 0x3F7426CB#32
  | 3 => 0x3F7B14BE#32
  | 4 => 0x3F7F069E#32
  | 5 => 0x3F7FF067#32
  | 6 => 0x3F7DCF55#32
  | 7 => 0x3F78A9E0#32
  | 8 => 0x3F708FB2#32
  | 9 => 0x3F659974#32
  | 10 => 0x3F57E880#32
  | 11 => 0x3F47A682#32
  | 12 => 0x3F3504F3#32
  | 13 => 0x3F203C85#32
  | 14 => 0x3F098C78#32
  | 15 => 0x3EE273AA#32
  | 16 => 0x3EAF1D44#32
  | 17 => 0x3E7363EE#32
  | 18 => 0x3E05A8A8#32
  | 19 => 0x3CB2B521#32
  | 20 => 0xBDB27EB6#32
  | 21 => 0xBE47C5C2#32
  | 22 => 0xBE99F61C#32
  | 23 => 0xBECE34D0#32
  | 24 => 0xBF000000#32
  | 25 => 0xBF176012#32
  | 26 => 0xBF2CF37B#32
  | 27 => 0xBF407893#32
  | 28 => 0xBF51B3F3#32
  | 29 => 0xBF60712A#32
  | 30 => 0xBF6C835E#32
  | 31 => 0xBF75C5D4#32
  | 32 => 0xBF7C1C5C#32
  | 33 => 0xBF7F73AF#32
  | 34 => 0xBF7FC1A0#32
  | 35 => 0xBF7D0543#32
  | 36 => 0xBF7746EA#32
  | 37 => 0xBF6E9811#32
  | 38 => 0xBF631324#32
  | 39 => 0xBF54DB31#32
  | 40 => 0xBF441B7D#32
  | 41 => 0xBF310700#32
  | 42 => 0xBF1BD7CA#32
  | 43 => 0xBF04CE53#32
  | 44 => 0xBED8616C#32
  | 45 => 0xBEA493B7#32
  | 46 => 0xBE5DA259#32
  | 47 => 0xBDDEF599#32
  | 48 => 0xA50D3132#32
  | 49 => 0x3DDEF599#32
  | 50 => 0x3E5DA259#32
  | 51 => 0x3EA493B7#32
  | 52 => 0x3ED8616C#32
  | 53 => 0x3F04CE53#32
  | 54 => 0x3F1BD7CA#32
  | 55 => 0x3F310700#32
  | 56 => 0x3F441B7D#32
  | 57 => 0x3F54DB31#32
  | 58 => 0x3F631324#32
  | 59 => 0x3F6E9811#32
  | 60 => 0x3F7746EA#32
  | 61 => 0x3F7D0543#32
  | 62 => 0x3F7FC1A0#32
  | 63 => 0x3F7F73AF#32
  | 64 => 0x3F7C1C5C#32
  | 65 => 0x3F75C5D4#32
  | 66 => 0x3F6C835E#32
  | 67 => 0x3F60712A#32
  | 68 => 0x3F51B3F3#32
  | 69 => 0x3F407893#32
  | 70 => 0x3F2CF37B#32
  | 71 => 0x3F176012#32
  | 72 => 0x3F000000#32
  | 73 => 0x3ECE34D0#32
  | 74 => 0x3E99F61C#32
  | 75 => 0x3E47C5C2#32
  | 76 => 0x3DB27EB6#32
  | 77 => 0xBCB2B521#32
  | 78 => 0xBE05A8A8#32
  | 79 => 0xBE7363EE#32
  | 80 => 0xBEAF1D44#32
  | 81 => 0xBEE273AA#32
  | 82 => 0xBF098C78#32
  | 83 => 0xBF203C85#32
  | 84 => 0xBF3504F3#32
  | 85 => 0xBF47A682#32
  | 86 => 0xBF57E880#32
  | 87 => 0xBF659974#32
  | 88 => 0xBF708FB2#32
  | 89 => 0xBF78A9E0#32
  | 90 => 0xBF7DCF55#32
  | 91 => 0xBF7FF067#32
  | 92 => 0xBF7F069E#32
  | 93 => 0xBF7B14BE#32
  | 94 => 0xBF7426CB#32
  | 95 => 0xBF6A51DA#32
  | 96 => 0xBF5DB3D7#32
  | 97 => 0xBF4E7327#32
  | 98 => 0xBF3CBE35#32
  | 99 => 0xBF28CAE3#32
  | 100 => 0xBF12D5E8#32
  | 101 => 0xBEF64429#32
  | 102 => 0xBEC3EF15#32
  | 103 => 0xBE8F45C0#32
  | 104 => 0xBE31D0D4#32
  | 105 => 0xBD85F213#32
  | 106 => 0x3D32AA3E#32
  | 107 => 0x3E1BC63C#32
  | 108 => 0x3E8483EE#32
  | 109 => 0x3EB9917B#32
  | 110 => 0x3EEC6A50#32
  | 111 => 0x3F0E39DA#32
  | 112 => 0x3F248DBB#32
  | 113 => 0x3F38ECD8#32
  | 114 => 0x3F4B1934#32
  | 115 => 0x3F5ADB81#32
  | 116 => 0x3F6803CA#32
  | 117 => 0x3F726A03#32
  | 118 => 0x3F79EE89#32
  | 119 => 0x3F7E7A7A#32
  | 120 => 0x3F800000#32
  | 121 => 0x3F7E7A7A#32
  | 122 => 0x3F79EE89#32
  | 123 => 0x3F726A03#32
  | 124 => 0x3F6803CA#32
  | 125 => 0x3F5ADB81#32
  | 126 => 0x3F4B1934#32
  | 127 => 0x3F38ECD8#32
  | _ => 0#32

noncomputable abbrev lit1t0_13 (i : Nat) : BitVec 32 := match i % 128 with
  | 0 => 0x3F248DBB#32
  | 1 => 0x3F0E39DA#32
  | 2 => 0x3EEC6A50#32
  | 3 => 0x3EB9917B#32
  | 4 => 0x3E8483EE#32
  | 5 => 0x3E1BC63C#32
  | 6 => 0x3D32AA3E#32
  | 7 => 0xBD85F213#32
  | 8 => 0xBE31D0D4#32
  | 9 => 0xBE8F45C0#32
  | 10 => 0xBEC3EF15#32
  | 11 => 0xBEF64429#32
  | 12 => 0xBF12D5E8#32
  | 13 => 0xBF28CAE3#32
  | 14 => 0xBF3CBE35#32
  | 15 => 0xBF4E7327#32
  | 16 => 0xBF5DB3D7#32
  | 17 => 0xBF6A51DA#32
  | 18 => 0xBF7426CB#32
  | 19 => 0xBF7B14BE#32
  | 20 => 0xBF7F069E#32
  | 21 => 0xBF7FF067#32
  | 22 => 0xBF7DCF55#32
  | 23 => 0xBF78A9E0#32
  | 24 => 0xBF708FB2#32
  | 25 => 0xBF659974#32
  | 26 => 0xBF57E880#32
  | 27 => 0xBF47A682#32
  | 28 => 0xBF3504F3#32
  | 29 => 0xBF203C85#32
  | 30 => 0xBF098C78#32
  | 31 => 0xBEE273AA#32
  | 32 => 0xBEAF1D44#32
  | 33 => 0xBE7363EE#32
  | 34 => 0xBE05A8A8#32
  | 35 => 0xBCB2B521#32
  | 36 => 0x3DB27EB6#32
  | 37 => 0x3E47C5C2#32
  | 38 => 0x3E99F61C#32
  | 39 => 0x3ECE34D0#32
  | 40 => 0x3F000000#32
  | 41 => 0x3F176012#32
  | 42 => 0x3F2CF37B#32
  | 43 => 0x3F407893#32
  | 44 => 0x3F51B3F3#32
  | 45 => 0x3F60712A#32
  | 46 => 0x3F6C835E#32
  | 47 => 0x3F75C5D4#32
  | 48 => 0x3F7C1C5C#32
  | 49 => 0x3F7F73AF#32
  | 50 => 0x3F7FC1A0#32
  | 51 => 0x3F7D0543#32
  | 52 => 0x3F7746EA#32
  | 53 => 0x3F6E9811#32
  | 54 => 0x3F631324#32
  | 55 => 0x3F54DB31#32
  | 56 => 0x3F441B7D#32
  | 57 => 0x3F310700#32
  | 58 => 0x3F1BD7CA#32
  | 59 => 0x3F04CE53#32
  | 60 => 0x3ED8616C#32
  | 61 => 0x3EA493B7#32
  | 62 => 0x3E5DA259#32
  | 63 => 0x3DDEF599#32
  | 64 => 0x80000000#32
  | 65 => 0xBE05A8A8#32
  | 66 => 0xBE8483EE#32
  | 67 => 0xBEC3EF15#32
  | 68 => 0xBF000000#32
  | 69 => 0xBF1BD7CA#32
  | 70 => 0xBF3504F3#32
  | 71 => 0xBF4B1934#32
  | 72 => 0xBF5DB3D7#32
  | 73 => 0xBF6C835E#32
  | 74 => 0xBF7746EA#32
  | 75 => 0xBF7DCF55#32
  | 76 => 0xBF800000#32
  | 77 => 0xBF7DCF55#32
  | 78 => 0xBF7746EA#32
  | 79 => 0xBF6C835E#32
  | 80 => 0xBF5DB3D7#32
  | 81 => 0xBF4B1934#32
  | 82 => 0xBF3504F3#32
  | 83 => 0xBF1BD7CA#32
  | 84 => 0xBF000000#32
  | 85 => 0xBEC3EF15#32
  | 86 => 0xBE8483EE#32
  | 87 => 0xBE05A8A8#32
  | 88 => 0xA50D3132#32
  | 89 => 0x3E05A8A8#32
  | 90 => 0x3E8483EE#32
  | 91 => 0x3EC3EF15#32
  | 92 => 0x3F000000#32
  | 93 => 0x3F1BD7CA#32
  | 94 => 0x3F3504F3#32
  | 95 => 0x3F4B1934#32
  | 96 => 0x3F5DB3D7#32
  | 97 => 0x3F6C835E#32
  | 98 => 0x3F7746EA#32
  | 99 => 0x3F7DCF55#32
  | 100 => 0x3F800000#32
  | 101 => 0x3F7DCF55#32
  | 102 => 0x3F7746EA#32
  | 103 => 0x3F6C835E#32
  | 104 => 0x3F5DB3D7#32
  | 105 => 0x3F4B1934#32
  | 106 => 0x3F3504F3#32
  | 107 => 0x3F1BD7CA#32
  | 108 => 0x3F000000#32
  | 109 => 0x3EC3EF15#32
  | 110 => 0x3E8483EE#32
  | 111 => 0x3E05A8A8#32
  | 112 => 0x80000000#32
  | 113 => 0xBE05A8A8#32
  | 114 => 0xBE8483EE#32
  | 115 => 0xBEC3EF15#32
  | 116 => 0xBF000000#32
  | 117 => 0xBF1BD7CA#32
  | 118 => 0xBF3504F3#32
  | 119 => 0xBF4B1934#32
  | 120 => 0xBF5DB3D7#32
  | 121 => 0xBF6C835E#32
  | 122 => 0xBF7746EA#32
  | 123 => 0xBF7DCF55#32
  | 124 => 0xBF800000#32
  | 125 => 0xBF7DCF55#32
  | 126 => 0xBF7746EA#32
  | 127 => 0xBF6C835E#32
  | _ => 0#32

noncomputable abbrev lit1t0_14 (i : Nat) : BitVec 32 := match i % 128 with
  | 0 => 0xBF5DB3D7#32
  | 1 => 0xBF4B1934#32
  | 2 => 0xBF3504F3#32
  | 3 => 0xBF1BD7CA#32
  | 4 => 0xBF000000#32
  | 5 => 0xBEC3EF15#32
  | 6 => 0xBE8483EE#32
  | 7 => 0xBE05A8A8#32
  | 8 => 0xA50D3132#32
  | 9 => 0x3E05A8A8#32
  | 10 => 0x3E8483EE#32
  | 11 => 0x3EC3EF15#32
  | 12 => 0x3F000000#32
  | 13 => 0x3F1BD7CA#32
  | 14 => 0x3F3504F3#32
  | 15 => 0x3F4B1934#32
  | 16 => 0x3F5DB3D7#32
  | 17 => 0x3F6C835E#32
  | 18 => 0x3F7746EA#32
  | 19 => 0x3F7DCF55#32
  | 20 => 0x3F800000#32
  | 21 => 0x3F7DCF55#32
  | 22 => 0x3F7746EA#32
  | 23 => 0x3F6C835E#32
  | 24 => 0x3F5DB3D7#32
  | 25 => 0x3F4B1934#32
  | 26 => 0x3F3504F3#32
  | 27 => 0x3F1BD7CA#32
  | 28 => 0x3F000000#32
  | 29 => 0x3EC3EF15#32
  | 30 => 0x3E8483EE#32
  | 31 => 0x3E05A8A8#32
  | 32 => 0x80000000#32
  | 33 => 0xBE05A8A8#32
  | 34 => 0xBE8483EE#32
  | 35 => 0xBEC3EF15#32
  | 36 => 0xBF000000#32
  | 37 => 0xBF1BD7CA#32
  | 38 => 0xBF3504F3#32
  | 39 => 0xBF4B1934#32
  | 40 => 0xBF5DB3D7#32
  | 41 => 0xBF6C835E#32
  | 42 => 0xBF7746EA#32
  | 43 => 0xBF7DCF55#32
  | 44 => 0xBF800000#32
  | 45 => 0xBF7DCF55#32
  | 46 => 0xBF7746EA#32
  | 47 => 0xBF6C835E#32
  | 48 => 0xBF5DB3D7#32
  | 49 => 0xBF4B1934#32
  | 50 => 0xBF3504F3#32
  | 51 => 0xBF1BD7CA#32
  | 52 => 0xBF000000#32
  | 53 => 0xBEC3EF15#32
  | 54 => 0xBE8483EE#32
  | 55 => 0xBE05A8A8#32
  | 56 => 0xA50D3132#32
  | 57 => 0x3E05A8A8#32
  | 58 => 0x3E8483EE#32
  | 59 => 0x3EC3EF15#32
  | 60 => 0x3F000000#32
  | 61 => 0x3F1BD7CA#32
  | 62 => 0x3F3504F3#32
  | 63 => 0x3F4B1934#32
  | 64 => 0x3F5DB3D7#32
  | 65 => 0x3F6C835E#32
  | 66 => 0x3F7746EA#32
  | 67 => 0x3F7DCF55#32
  | 68 => 0x3F800000#32
  | 69 => 0x3F7DCF55#32
  | 70 => 0x3F7746EA#32
  | 71 => 0x3F6C835E#32
  | 72 => 0x3F5DB3D7#32
  | 73 => 0x3F4B1934#32
  | 74 => 0x3F3504F3#32
  | 75 => 0x3F1BD7CA#32
  | 76 => 0x3F000000#32
  | 77 => 0x3EC3EF15#32
  | 78 => 0x3E8483EE#32
  | 79 => 0x3E05A8A8#32
  | 80 => 0x80000000#32
  | 81 => 0xBE05A8A8#32
  | 82 => 0xBE8483EE#32
  | 83 => 0xBEC3EF15#32
  | 84 => 0xBF000000#32
  | 85 => 0xBF1BD7CA#32
  | 86 => 0xBF3504F3#32
  | 87 => 0xBF4B1934#32
  | 88 => 0xBF5DB3D7#32
  | 89 => 0xBF6C835E#32
  | 90 => 0xBF7746EA#32
  | 91 => 0xBF7DCF55#32
  | 92 => 0xBF800000#32
  | 93 => 0xBF7DCF55#32
  | 94 => 0xBF7746EA#32
  | 95 => 0xBF6C835E#32
  | 96 => 0xBF5DB3D7#32
  | 97 => 0xBF4B1934#32
  | 98 => 0xBF3504F3#32
  | 99 => 0xBF1BD7CA#32
  | 100 => 0xBF000000#32
  | 101 => 0xBEC3EF15#32
  | 102 => 0xBE8483EE#32
  | 103 => 0xBE05A8A8#32
  | 104 => 0xA50D3132#32
  | 105 => 0x3E05A8A8#32
  | 106 => 0x3E8483EE#32
  | 107 => 0x3EC3EF15#32
  | 108 => 0x3F000000#32
  | 109 => 0x3F1BD7CA#32
  | 110 => 0x3F3504F3#32
  | 111 => 0x3F4B1934#32
  | 112 => 0x3F5DB3D7#32
  | 113 => 0x3F6C835E#32
  | 114 => 0x3F7746EA#32
  | 115 => 0x3F7DCF55#32
  | 116 => 0x3F800000#32
  | 117 => 0x3F7DCF55#32
  | 118 => 0x3F7746EA#32
  | 119 => 0x3F6C835E#32
  | 120 => 0x3F5DB3D7#32
  | 121 => 0x3F4B1934#32
  | 122 => 0x3F3504F3#32
  | 123 => 0x3F1BD7CA#32
  | 124 => 0x3F000000#32
  | 125 => 0x3EC3EF15#32
  | 126 => 0x3E8483EE#32
  | 127 => 0x3E05A8A8#32
  | _ => 0#32

noncomputable abbrev lit1t0_15 (i : Nat) : BitVec 32 := match i % 128 with
  | 0 => 0x80000000#32
  | 1 => 0xBE05A8A8#32
  | 2 => 0xBE8483EE#32
  | 3 => 0xBEC3EF15#32
  | 4 => 0xBF000000#32
  | 5 => 0xBF1BD7CA#32
  | 6 => 0xBF3504F3#32
  | 7 => 0xBF4B1934#32
  | 8 => 0xBF5DB3D7#32
  | 9 => 0xBF6C835E#32
  | 10 => 0xBF7746EA#32
  | 11 => 0xBF7DCF55#32
  | 12 => 0xBF800000#32
  | 13 => 0xBF7DCF55#32
  | 14 => 0xBF7746EA#32
  | 15 => 0xBF6C835E#32
  | 16 => 0xBF5DB3D7#32
  | 17 => 0xBF4B1934#32
  | 18 => 0xBF3504F3#32
  | 19 => 0xBF1BD7CA#32
  | 20 => 0xBF000000#32
  | 21 => 0xBEC3EF15#32
  | 22 => 0xBE8483EE#32
  | 23 => 0xBE05A8A8#32
  | 24 => 0xA50D3132#32
  | 25 => 0x3E05A8A8#32
  | 26 => 0x3E8483EE#32
  | 27 => 0x3EC3EF15#32
  | 28 => 0x3F000000#32
  | 29 => 0x3F1BD7CA#32
  | 30 => 0x3F3504F3#32
  | 31 => 0x3F4B1934#32
  | 32 => 0x3F5DB3D7#32
  | 33 => 0x3F6C835E#32
  | 34 => 0x3F7746EA#32
  | 35 => 0x3F7DCF55#32
  | 36 => 0x3F800000#32
  | 37 => 0x3F7DCF55#32
  | 38 => 0x3F7746EA#32
  | 39 => 0x3F6C835E#32
  | 40 => 0x3F5DB3D7#32
  | 41 => 0x3F4B1934#32
  | 42 => 0x3F3504F3#32
  | 43 => 0x3F1BD7CA#32
  | 44 => 0x3F000000#32
  | 45 => 0x3EC3EF15#32
  | 46 => 0x3E8483EE#32
  | 47 => 0x3E05A8A8#32
  | 48 => 0x80000000#32
  | 49 => 0xBE05A8A8#32
  | 50 => 0xBE8483EE#32
  | 51 => 0xBEC3EF15#32
  | 52 => 0xBF000000#32
  | 53 => 0xBF1BD7CA#32
  | 54 => 0xBF3504F3#32
  | 55 => 0xBF4B1934#32
  | 56 => 0xBF5DB3D7#32
  | 57 => 0xBF6C835E#32
  | 58 => 0xBF7746EA#32
  | 59 => 0xBF7DCF55#32
  | 60 => 0xBF800000#32
  | 61 => 0xBF7DCF55#32
  | 62 => 0xBF7746EA#32
  | 63 => 0xBF6C835E#32
  | 64 => 0xBF5DB3D7#32
  | 65 => 0xBF4B1934#32
  | 66 => 0xBF3504F3#32
  | 67 => 0xBF1BD7CA#32
  | 68 => 0xBF000000#32
  | 69 => 0xBEC3EF15#32
  | 70 => 0xBE8483EE#32
  | 71 => 0xBE05A8A8#32
  | 72 => 0xA50D3132#32
  | 73 => 0x3E05A8A8#32
  | 74 => 0x3E8483EE#32
  | 75 => 0x3EC3EF15#32
  | 76 => 0x3F000000#32
  | 77 => 0x3F1BD7CA#32
  | 78 => 0x3F3504F3#32
  | 79 => 0x3F4B1934#32
  | 80 => 0x3F5DB3D7#32
  | 81 => 0x3F6C835E#32
  | 82 => 0x3F7746EA#32
  | 83 => 0x3F7DCF55#32
  | 84 => 0x3F800000#32
  | 85 => 0x3F7DCF55#32
  | 86 => 0x3F7746EA#32
  | 87 => 0x3F6C835E#32
  | 88 => 0x3F5DB3D7#32
  | 89 => 0x3F4B1934#32
  | 90 => 0x3F3504F3#32
  | 91 => 0x3F1BD7CA#32
  | 92 => 0x3F000000#32
  | 93 => 0x3EC3EF15#32
  | 94 => 0x3E8483EE#32
  | 95 => 0x3E05A8A8#32
  | 96 => 0x80000000#32
  | 97 => 0xBE1BC63C#32
  | 98 => 0xBE99F61C#32
  | 99 => 0xBEE273AA#32
  | 100 => 0xBF12D5E8#32
  | 101 => 0xBF310700#32
  | 102 => 0xBF4B1934#32
  | 103 => 0xBF60712A#32
  | 104 => 0xBF708FB2#32
  | 105 => 0xBF7B14BE#32
  | 106 => 0xBF7FC1A0#32
  | 107 => 0xBF7E7A7A#32
  | 108 => 0xBF7746EA#32
  | 109 => 0xBF6A51DA#32
  | 110 => 0xBF57E880#32
  | 111 => 0xBF407893#32
  | 112 => 0xBF248DBB#32
  | 113 => 0xBF04CE53#32
  | 114 => 0xBEC3EF15#32
  | 115 => 0xBE7363EE#32
  | 116 => 0xBDB27EB6#32
  | 117 => 0x3D85F213#32
  | 118 => 0x3E5DA259#32
  | 119 => 0x3EB9917B#32
  | 120 => 0x3F000000#32
  | 121 => 0x3F203C85#32
  | 122 => 0x3F3CBE35#32
  | 123 => 0x3F54DB31#32
  | 124 => 0x3F6803CA#32
  | 125 => 0x3F75C5D4#32
  | 126 => 0x3F7DCF55#32
  | 127 => 0x3F7FF067#32
  | _ => 0#32

noncomputable abbrev lit1t0_16 (i : Nat) : BitVec 32 := match i % 128 with
  | 0 => 0x3F7C1C5C#32
  | 1 => 0x3F726A03#32
  | 2 => 0x3F631324#32
  | 3 => 0x3F4E7327#32
  | 4 => 0x3F3504F3#32
  | 5 => 0x3F176012#32
  | 6 => 0x3EEC6A50#32
  | 7 => 0x3EA493B7#32
  | 8 => 0x3E31D0D4#32
  | 9 => 0x3CB2B521#32
  | 10 => 0xBE05A8A8#32
  | 11 => 0xBE8F45C0#32
  | 12 => 0xBED8616C#32
  | 13 => 0xBF0E39DA#32
  | 14 => 0xBF2CF37B#32
  | 15 => 0xBF47A682#32
  | 16 => 0xBF5DB3D7#32
  | 17 => 0xBF6E9811#32
  | 18 => 0xBF79EE89#32
  | 19 => 0xBF7F73AF#32
  | 20 => 0xBF7F069E#32
  | 21 => 0xBF78A9E0#32
  | 22 => 0xBF6C835E#32
  | 23 => 0xBF5ADB81#32
  | 24 => 0xBF441B7D#32
  | 25 => 0xBF28CAE3#32
  | 26 => 0xBF098C78#32
  | 27 => 0xBECE34D0#32
  | 28 => 0xBE8483EE#32
  | 29 => 0xBDDEF599#32
  | 30 => 0x3D32AA3E#32
  | 31 => 0x3E47C5C2#32
  | 32 => 0x3EAF1D44#32
  | 33 => 0x3EF64429#32
  | 34 => 0x3F1BD7CA#32
  | 35 => 0x3F38ECD8#32
  | 36 => 0x3F51B3F3#32
  | 37 => 0x3F659974#32
  | 38 => 0x3F7426CB#32
  | 39 => 0x3F7D0543#32
  | 40 => 0x3F800000#32
  | 41 => 0x3F7D0543#32
  | 42 => 0x3F7426CB#32
  | 43 => 0x3F659974#32
  | 44 => 0x3F51B3F3#32
  | 45 => 0x3F38ECD8#32
  | 46 => 0x3F1BD7CA#32
  | 47 => 0x3EF64429#32
  | 48 => 0x3EAF1D44#32
  | 49 => 0x3E47C5C2#32
  | 50 => 0x3D32AA3E#32
  | 51 => 0xBDDEF599#32
  | 52 => 0xBE8483EE#32
  | 53 => 0xBECE34D0#32
  | 54 => 0xBF098C78#32
  | 55 => 0xBF28CAE3#32
  | 56 => 0xBF441B7D#32
  | 57 => 0xBF5ADB81#32
  | 58 => 0xBF6C835E#32
  | 59 => 0xBF78A9E0#32
  | 60 => 0xBF7F069E#32
  | 61 => 0xBF7F73AF#32
  | 62 => 0xBF79EE89#32
  | 63 => 0xBF6E9811#32
  | 64 => 0xBF5DB3D7#32
  | 65 => 0xBF47A682#32
  | 66 => 0xBF2CF37B#32
  | 67 => 0xBF0E39DA#32
  | 68 => 0xBED8616C#32
  | 69 => 0xBE8F45C0#32
  | 70 => 0xBE05A8A8#32
  | 71 => 0x3CB2B521#32
  | 72 => 0x3E31D0D4#32
  | 73 => 0x3EA493B7#32
  | 74 => 0x3EEC6A50#32
  | 75 => 0x3F176012#32
  | 76 => 0x3F3504F3#32
  | 77 => 0x3F4E7327#32
  | 78 => 0x3F631324#32
  | 79 => 0x3F726A03#32
  | 80 => 0x3F7C1C5C#32
  | 81 => 0x3F7FF067#32
  | 82 => 0x3F7DCF55#32
  | 83 => 0x3F75C5D4#32
  | 84 => 0x3F6803CA#32
  | 85 => 0x3F54DB31#32
  | 86 => 0x3F3CBE35#32
  | 87 => 0x3F203C85#32
  | 88 => 0x3F000000#32
  | 89 => 0x3EB9917B#32
  | 90 => 0x3E5DA259#32
  | 91 => 0x3D85F213#32
  | 92 => 0xBDB27EB6#32
  | 93 => 0xBE7363EE#32
  | 94 => 0xBEC3EF15#32
  | 95 => 0xBF04CE53#32
  | 96 => 0xBF248DBB#32
  | 97 => 0xBF407893#32
  | 98 => 0xBF57E880#32
  | 99 => 0xBF6A51DA#32
  | 100 => 0xBF7746EA#32
  | 101 => 0xBF7E7A7A#32
  | 102 => 0xBF7FC1A0#32
  | 103 => 0xBF7B14BE#32
  | 104 => 0xBF708FB2#32
  | 105 => 0xBF60712A#32
  | 106 => 0xBF4B1934#32
  | 107 => 0xBF310700#32
  | 108 => 0xBF12D5E8#32
  | 109 => 0xBEE273AA#32
  | 110 => 0xBE99F61C#32
  | 111 => 0xBE1BC63C#32
  | 112 => 0xA50D3132#32
  | 113 => 0x3E1BC63C#32
  | 114 => 0x3E99F61C#32
  | 115 => 0x3EE273AA#32
  | 116 => 0x3F12D5E8#32
  | 117 => 0x3F310700#32
  | 118 => 0x3F4B1934#32
  | 119 => 0x3F60712A#32
  | 120 => 0x3F708FB2#32
  | 121 => 0x3F7B14BE#32
  | 122 => 0x3F7FC1A0#32
  | 123 => 0x3F7E7A7A#32
  | 124 => 0x3F7746EA#32
  | 125 => 0x3F6A51DA#32
  | 126 => 0x3F57E880#32
  | 127 => 0x3F407893#32
  | _ => 0#32

noncomputable abbrev lit1t0_17 (i : Nat) : BitVec 32 := match i % 128 with
  | 0 => 0x3F248DBB#32
  | 1 => 0x3F04CE53#32
  | 2 => 0x3EC3EF15#32
  | 3 => 0x3E7363EE#32
  | 4 => 0x3DB27EB6#32
  | 5 => 0xBD85F213#32
  | 6 => 0xBE5DA259#32
  | 7 => 0xBEB9917B#32
  | 8 => 0xBF000000#32
  | 9 => 0xBF203C85#32
  | 10 => 0xBF3CBE35#32
  | 11 => 0xBF54DB31#32
  | 12 => 0xBF6803CA#32
  | 13 => 0xBF75C5D4#32
  | 14 => 0xBF7DCF55#32
  | 15 => 0xBF7FF067#32
  | 16 => 0xBF7C1C5C#32
  | 17 => 0xBF726A03#32
  | 18 => 0xBF631324#32
  | 19 => 0xBF4E7327#32
  | 20 => 0xBF3504F3#32
  | 21 => 0xBF176012#32
  | 22 => 0xBEEC6A50#32
  | 23 => 0xBEA493B7#32
  | 24 => 0xBE31D0D4#32
  | 25 => 0xBCB2B521#32
  | 26 => 0x3E05A8A8#32
  | 27 => 0x3E8F45C0#32
  | 28 => 0x3ED8616C#32
  | 29 => 0x3F0E39DA#32
  | 30 => 0x3F2CF37B#32
  | 31 => 0x3F47A682#32
  | 32 => 0x3F5DB3D7#32
  | 33 => 0x3F6E9811#32
  | 34 => 0x3F79EE89#32
  | 35 => 0x3F7F73AF#32
  | 36 => 0x3F7F069E#32
  | 37 => 0x3F78A9E0#32
  | 38 => 0x3F6C835E#32
  | 39 => 0x3F5ADB81#32
  | 40 => 0x3F441B7D#32
  | 41 => 0x3F28CAE3#32
  | 42 => 0x3F098C78#32
  | 43 => 0x3ECE34D0#32
  | 44 => 0x3E8483EE#32
  | 45 => 0x3DDEF599#32
  | 46 => 0xBD32AA3E#32
  | 47 => 0xBE47C5C2#32
  | 48 => 0xBEAF1D44#32
  | 49 => 0xBEF64429#32
  | 50 => 0xBF1BD7CA#32
  | 51 => 0xBF38ECD8#32
  | 52 => 0xBF51B3F3#32
  | 53 => 0xBF659974#32
  | 54 => 0xBF7426CB#32
  | 55 => 0xBF7D0543#32
  | 56 => 0xBF800000#32
  | 57 => 0xBF7D0543#32
  | 58 => 0xBF7426CB#32
  | 59 => 0xBF659974#32
  | 60 => 0xBF51B3F3#32
  | 61 => 0xBF38ECD8#32
  | 62 => 0xBF1BD7CA#32
  | 63 => 0xBEF64429#32
  | 64 => 0xBEAF1D44#32
  | 65 => 0xBE47C5C2#32
  | 66 => 0xBD32AA3E#32
  | 67 => 0x3DDEF599#32
  | 68 => 0x3E8483EE#32
  | 69 => 0x3ECE34D0#32
  | 70 => 0x3F098C78#32
  | 71 => 0x3F28CAE3#32
  | 72 => 0x3F441B7D#32
  | 73 => 0x3F5ADB81#32
  | 74 => 0x3F6C835E#32
  | 75 => 0x3F78A9E0#32
  | 76 => 0x3F7F069E#32
  | 77 => 0x3F7F73AF#32
  | 78 => 0x3F79EE89#32
  | 79 => 0x3F6E9811#32
  | 80 => 0x3F5DB3D7#32
  | 81 => 0x3F47A682#32
  | 82 => 0x3F2CF37B#32
  | 83 => 0x3F0E39DA#32
  | 84 => 0x3ED8616C#32
  | 85 => 0x3E8F45C0#32
  | 86 => 0x3E05A8A8#32
  | 87 => 0xBCB2B521#32
  | 88 => 0xBE31D0D4#32
  | 89 => 0xBEA493B7#32
  | 90 => 0xBEEC6A50#32
  | 91 => 0xBF176012#32
  | 92 => 0xBF3504F3#32
  | 93 => 0xBF4E7327#32
  | 94 => 0xBF631324#32
  | 95 => 0xBF726A03#32
  | 96 => 0xBF7C1C5C#32
  | 97 => 0xBF7FF067#32
  | 98 => 0xBF7DCF55#32
  | 99 => 0xBF75C5D4#32
  | 100 => 0xBF6803CA#32
  | 101 => 0xBF54DB31#32
  | 102 => 0xBF3CBE35#32
  | 103 => 0xBF203C85#32
  | 104 => 0xBF000000#32
  | 105 => 0xBEB9917B#32
  | 106 => 0xBE5DA259#32
  | 107 => 0xBD85F213#32
  | 108 => 0x3DB27EB6#32
  | 109 => 0x3E7363EE#32
  | 110 => 0x3EC3EF15#32
  | 111 => 0x3F04CE53#32
  | 112 => 0x3F248DBB#32
  | 113 => 0x3F407893#32
  | 114 => 0x3F57E880#32
  | 115 => 0x3F6A51DA#32
  | 116 => 0x3F7746EA#32
  | 117 => 0x3F7E7A7A#32
  | 118 => 0x3F7FC1A0#32
  | 119 => 0x3F7B14BE#32
  | 120 => 0x3F708FB2#32
  | 121 => 0x3F60712A#32
  | 122 => 0x3F4B1934#32
  | 123 => 0x3F310700#32
  | 124 => 0x3F12D5E8#32
  | 125 => 0x3EE273AA#32
  | 126 => 0x3E99F61C#32
  | 127 => 0x3E1BC63C#32
  | _ => 0#32

noncomputable abbrev lit1t0_18 (i : Nat) : BitVec 32 := match i % 128 with
  | 0 => 0x80000000#32
  | 1 => 0xBE31D0D4#32
  | 2 => 0xBEAF1D44#32
  | 3 => 0xBF000000#32
  | 4 => 0xBF248DBB#32
  | 5 => 0xBF441B7D#32
  | 6 => 0xBF5DB3D7#32
  | 7 => 0xBF708FB2#32
  | 8 => 0xBF7C1C5C#32
  | 9 => 0xBF800000#32
  | 10 => 0xBF7C1C5C#32
  | 11 => 0xBF708FB2#32
  | 12 => 0xBF5DB3D7#32
  | 13 => 0xBF441B7D#32
  | 14 => 0xBF248DBB#32
  | 15 => 0xBF000000#32
  | 16 => 0xBEAF1D44#32
  | 17 => 0xBE31D0D4#32
  | 18 => 0xA50D3132#32
  | 19 => 0x3E31D0D4#32
  | 20 => 0x3EAF1D44#32
  | 21 => 0x3F000000#32
  | 22 => 0x3F248DBB#32
  | 23 => 0x3F441B7D#32
  | 24 => 0x3F5DB3D7#32
  | 25 => 0x3F708FB2#32
  | 26 => 0x3F7C1C5C#32
  | 27 => 0x3F800000#32
  | 28 => 0x3F7C1C5C#32
  | 29 => 0x3F708FB2#32
  | 30 => 0x3F5DB3D7#32
  | 31 => 0x3F441B7D#32
  | 32 => 0x3F248DBB#32
  | 33 => 0x3F000000#32
  | 34 => 0x3EAF1D44#32
  | 35 => 0x3E31D0D4#32
  | 36 => 0x80000000#32
  | 37 => 0xBE31D0D4#32
  | 38 => 0xBEAF1D44#32
  | 39 => 0xBF000000#32
  | 40 => 0xBF248DBB#32
  | 41 => 0xBF441B7D#32
  | 42 => 0xBF5DB3D7#32
  | 43 => 0xBF708FB2#32
  | 44 => 0xBF7C1C5C#32
  | 45 => 0xBF800000#32
  | 46 => 0xBF7C1C5C#32
  | 47 => 0xBF708FB2#32
  | 48 => 0xBF5DB3D7#32
  | 49 => 0xBF441B7D#32
  | 50 => 0xBF248DBB#32
  | 51 => 0xBF000000#32
  | 52 => 0xBEAF1D44#32
  | 53 => 0xBE31D0D4#32
  | 54 => 0xA50D3132#32
  | 55 => 0x3E31D0D4#32
  | 56 => 0x3EAF1D44#32
  | 57 => 0x3F000000#32
  | 58 => 0x3F248DBB#32
  | 59 => 0x3F441B7D#32
  | 60 => 0x3F5DB3D7#32
  | 61 => 0x3F708FB2#32
  | 62 => 0x3F7C1C5C#32
  | 63 => 0x3F800000#32
  | 64 => 0x3F7C1C5C#32
  | 65 => 0x3F708FB2#32
  | 66 => 0x3F5DB3D7#32
  | 67 => 0x3F441B7D#32
  | 68 => 0x3F248DBB#32
  | 69 => 0x3F000000#32
  | 70 => 0x3EAF1D44#32
  | 71 => 0x3E31D0D4#32
  | 72 => 0x80000000#32
  | 73 => 0xBE31D0D4#32
  | 74 => 0xBEAF1D44#32
  | 75 => 0xBF000000#32
  | 76 => 0xBF248DBB#32
  | 77 => 0xBF441B7D#32
  | 78 => 0xBF5DB3D7#32
  | 79 => 0xBF708FB2#32
  | 80 => 0xBF7C1C5C#32
  | 81 => 0xBF800000#32
  | 82 => 0xBF7C1C5C#32
  | 83 => 0xBF708FB2#32
  | 84 => 0xBF5DB3D7#32
  | 85 => 0xBF441B7D#32
  | 86 => 0xBF248DBB#32
  | 87 => 0xBF000000#32
  | 88 => 0xBEAF1D44#32
  | 89 => 0xBE31D0D4#32
  | 90 => 0xA50D3132#32
  | 91 => 0x3E31D0D4#32
  | 92 => 0x3EAF1D44#32
  | 93 => 0x3F000000#32
  | 94 => 0x3F248DBB#32
  | 95 => 0x3F441B7D#32
  | 96 => 0x3F5DB3D7#32
  | 97 => 0x3F708FB2#32
  | 98 => 0x3F7C1C5C#32
  | 99 => 0x3F800000#32
  | 100 => 0x3F7C1C5C#32
  | 101 => 0x3F708FB2#32
  | 102 => 0x3F5DB3D7#32
  | 103 => 0x3F441B7D#32
  | 104 => 0x3F248DBB#32
  | 105 => 0x3F000000#32
  | 106 => 0x3EAF1D44#32
  | 107 => 0x3E31D0D4#32
  | 108 => 0x80000000#32
  | 109 => 0xBE31D0D4#32
  | 110 => 0xBEAF1D44#32
  | 111 => 0xBF000000#32
  | 112 => 0xBF248DBB#32
  | 113 => 0xBF441B7D#32
  | 114 => 0xBF5DB3D7#32
  | 115 => 0xBF708FB2#32
  | 116 => 0xBF7C1C5C#32
  | 117 => 0xBF800000#32
  | 118 => 0xBF7C1C5C#32
  | 119 => 0xBF708FB2#32
  | 120 => 0xBF5DB3D7#32
  | 121 => 0xBF441B7D#32
  | 122 => 0xBF248DBB#32
  | 123 => 0xBF000000#32
  | 124 => 0xBEAF1D44#32
  | 125 => 0xBE31D0D4#32
  | 126 => 0xA50D3132#32
  | 127 => 0x3E31D0D4#32
  | _ => 0#32

noncomputable abbrev lit1t0_19 (i : Nat) : BitVec 32 := match i % 128 with
  | 0 => 0x3EAF1D44#32
  | 1 => 0x3F000000#32
  | 2 => 0x3F248DBB#32
  | 3 => 0x3F441B7D#32
  | 4 => 0x3F5DB3D7#32
  | 5 => 0x3F708FB2#32
  | 6 => 0x3F7C1C5C#32
  | 7 => 0x3F800000#32
  | 8 => 0x3F7C1C5C#32
  | 9 => 0x3F708FB2#32
  | 10 => 0x3F5DB3D7#32
  | 11 => 0x3F441B7D#32
  | 12 => 0x3F248DBB#32
  | 13 => 0x3F000000#32
  | 14 => 0x3EAF1D44#32
  | 15 => 0x3E31D0D4#32
  | 16 => 0x80000000#32
  | 17 => 0xBE31D0D4#32
  | 18 => 0xBEAF1D44#32
  | 19 => 0xBF000000#32
  | 20 => 0xBF248DBB#32
  | 21 => 0xBF441B7D#32
  | 22 => 0xBF5DB3D7#32
  | 23 => 0xBF708FB2#32
  | 24 => 0xBF7C1C5C#32
  | 25 => 0xBF800000#32
  | 26 => 0xBF7C1C5C#32
  | 27 => 0xBF708FB2#32
  | 28 => 0xBF5DB3D7#32
  | 29 => 0xBF441B7D#32
  | 30 => 0xBF248DBB#32
  | 31 => 0xBF000000#32
  | 32 => 0xBEAF1D44#32
  | 33 => 0xBE31D0D4#32
  | 34 => 0xA50D3132#32
  | 35 => 0x3E31D0D4#32
  | 36 => 0x3EAF1D44#32
  | 37 => 0x3F000000#32
  | 38 => 0x3F248DBB#32
  | 39 => 0x3F441B7D#32
  | 40 => 0x3F5DB3D7#32
  | 41 => 0x3F708FB2#32
  | 42 => 0x3F7C1C5C#32
  | 43 => 0x3F800000#32
  | 44 => 0x3F7C1C5C#32
  | 45 => 0x3F708FB2#32
  | 46 => 0x3F5DB3D7#32
  | 47 => 0x3F441B7D#32
  | 48 => 0x3F248DBB#32
  | 49 => 0x3F000000#32
  | 50 => 0x3EAF1D44#32
  | 51 => 0x3E31D0D4#32
  | 52 => 0x80000000#32
  | 53 => 0xBE31D0D4#32
  | 54 => 0xBEAF1D44#32
  | 55 => 0xBF000000#32
  | 56 => 0xBF248DBB#32
  | 57 => 0xBF441B7D#32
  | 58 => 0xBF5DB3D7#32
  | 59 => 0xBF708FB2#32
  | 60 => 0xBF7C1C5C#32
  | 61 => 0xBF800000#32
  | 62 => 0xBF7C1C5C#32
  | 63 => 0xBF708FB2#32
  | 64 => 0xBF5DB3D7#32
  | 65 => 0xBF441B7D#32
  | 66 => 0xBF248DBB#32
  | 67 => 0xBF000000#32
  | 68 => 0xBEAF1D44#32
  | 69 => 0xBE31D0D4#32
  | 70 => 0xA50D3132#32
  | 71 => 0x3E31D0D4#32
  | 72 => 0x3EAF1D44#32
  | 73 => 0x3F000000#32
  | 74 => 0x3F248DBB#32
  | 75 => 0x3F441B7D#32
  | 76 => 0x3F5DB3D7#32
  | 77 => 0x3F708FB2#32
  | 78 => 0x3F7C1C5C#32
  | 79 => 0x3F800000#32
  | 80 => 0x3F7C1C5C#32
  | 81 => 0x3F708FB2#32
  | 82 => 0x3F5DB3D7#32
  | 83 => 0x3F441B7D#32
  | 84 => 0x3F248DBB#32
  | 85 => 0x3F000000#32
  | 86 => 0x3EAF1D44#32
  | 87 => 0x3E31D0D4#32
  | 88 => 0x80000000#32
  | 89 => 0xBE31D0D4#32
  | 90 => 0xBEAF1D44#32
  | 91 => 0xBF000000#32
  | 92 => 0xBF248DBB#32
  | 93 => 0xBF441B7D#32
  | 94 => 0xBF5DB3D7#32
  | 95 => 0xBF708FB2#32
  | 96 => 0xBF7C1C5C#32
  | 97 => 0xBF800000#32
  | 98 => 0xBF7C1C5C#32
  | 99 => 0xBF708FB2#32
  | 100 => 0xBF5DB3D7#32
  | 101 => 0xBF441B7D#32
  | 102 => 0xBF248DBB#32
  | 103 => 0xBF000000#32
  | 104 => 0xBEAF1D44#32
  | 105 => 0xBE31D0D4#32
  | 106 => 0xA50D3132#32
  | 107 => 0x3E31D0D4#32
  | 108 => 0x3EAF1D44#32
  | 109 => 0x3F000000#32
  | 110 => 0x3F248DBB#32
  | 111 => 0x3F441B7D#32
  | 112 => 0x3F5DB3D7#32
  | 113 => 0x3F708FB2#32
  | 114 => 0x3F7C1C5C#32
  | 115 => 0x3F800000#32
  | 116 => 0x3F7C1C5C#32
  | 117 => 0x3F708FB2#32
  | 118 => 0x3F5DB3D7#32
  | 119 => 0x3F441B7D#32
  | 120 => 0x3F248DBB#32
  | 121 => 0x3F000000#32
  | 122 => 0x3EAF1D44#32
  | 123 => 0x3E31D0D4#32
  | 124 => 0x80000000#32
  | 125 => 0xBE31D0D4#32
  | 126 => 0xBEAF1D44#32
  | 127 => 0xBF000000#32
  | _ => 0#32

noncomputable abbrev lit1t0_20 (i : Nat) : BitVec 32 := match i % 128 with
  | 0 => 0xBF248DBB#32
  | 1 => 0xBF441B7D#32
  | 2 => 0xBF5DB3D7#32
  | 3 => 0xBF708FB2#32
  | 4 => 0xBF7C1C5C#32
  | 5 => 0xBF800000#32
  | 6 => 0xBF7C1C5C#32
  | 7 => 0xBF708FB2#32
  | 8 => 0xBF5DB3D7#32
  | 9 => 0xBF441B7D#32
  | 10 => 0xBF248DBB#32
  | 11 => 0xBF000000#32
  | 12 => 0xBEAF1D44#32
  | 13 => 0xBE31D0D4#32
  | 14 => 0xA50D3132#32
  | 15 => 0x3E31D0D4#32
  | 16 => 0x3EAF1D44#32
  | 17 => 0x3F000000#32
  | 18 => 0x3F248DBB#32
  | 19 => 0x3F441B7D#32
  | 20 => 0x3F5DB3D7#32
  | 21 => 0x3F708FB2#32
  | 22 => 0x3F7C1C5C#32
  | 23 => 0x3F800000#32
  | 24 => 0x3F7C1C5C#32
  | 25 => 0x3F708FB2#32
  | 26 => 0x3F5DB3D7#32
  | 27 => 0x3F441B7D#32
  | 28 => 0x3F248DBB#32
  | 29 => 0x3F000000#32
  | 30 => 0x3EAF1D44#32
  | 31 => 0x3E31D0D4#32
  | 32 => 0x80000000#32
  | 33 => 0xBE47C5C2#32
  | 34 => 0xBEC3EF15#32
  | 35 => 0xBF0E39DA#32
  | 36 => 0xBF3504F3#32
  | 37 => 0xBF54DB31#32
  | 38 => 0xBF6C835E#32
  | 39 => 0xBF7B14BE#32
  | 40 => 0xBF800000#32
  | 41 => 0xBF7B14BE#32
  | 42 => 0xBF6C835E#32
  | 43 => 0xBF54DB31#32
  | 44 => 0xBF3504F3#32
  | 45 => 0xBF0E39DA#32
  | 46 => 0xBEC3EF15#32
  | 47 => 0xBE47C5C2#32
  | 48 => 0xA50D3132#32
  | 49 => 0x3E47C5C2#32
  | 50 => 0x3EC3EF15#32
  | 51 => 0x3F0E39DA#32
  | 52 => 0x3F3504F3#32
  | 53 => 0x3F54DB31#32
  | 54 => 0x3F6C835E#32
  | 55 => 0x3F7B14BE#32
  | 56 => 0x3F800000#32
  | 57 => 0x3F7B14BE#32
  | 58 => 0x3F6C835E#32
  | 59 => 0x3F54DB31#32
  | 60 => 0x3F3504F3#32
  | 61 => 0x3F0E39DA#32
  | 62 => 0x3EC3EF15#32
  | 63 => 0x3E47C5C2#32
  | 64 => 0x80000000#32
  | 65 => 0xBE47C5C2#32
  | 66 => 0xBEC3EF15#32
  | 67 => 0xBF0E39DA#32
  | 68 => 0xBF3504F3#32
  | 69 => 0xBF54DB31#32
  | 70 => 0xBF6C835E#32
  | 71 => 0xBF7B14BE#32
  | 72 => 0xBF800000#32
  | 73 => 0xBF7B14BE#32
  | 74 => 0xBF6C835E#32
  | 75 => 0xBF54DB31#32
  | 76 => 0xBF3504F3#32
  | 77 => 0xBF0E39DA#32
  | 78 => 0xBEC3EF15#32
  | 79 => 0xBE47C5C2#32
  | 80 => 0xA50D3132#32
  | 81 => 0x3E47C5C2#32
  | 82 => 0x3EC3EF15#32
  | 83 => 0x3F0E39DA#32
  | 84 => 0x3F3504F3#32
  | 85 => 0x3F54DB31#32
  | 86 => 0x3F6C835E#32
  | 87 => 0x3F7B14BE#32
  | 88 => 0x3F800000#32
  | 89 => 0x3F7B14BE#32
  | 90 => 0x3F6C835E#32
  | 91 => 0x3F54DB31#32
  | 92 => 0x3F3504F3#32
  | 93 => 0x3F0E39DA#32
  | 94 => 0x3EC3EF15#32
  | 95 => 0x3E47C5C2#32
  | 96 => 0x80000000#32
  | 97 => 0xBE47C5C2#32
  | 98 => 0xBEC3EF15#32
  | 99 => 0xBF0E39DA#32
  | 100 => 0xBF3504F3#32
  | 101 => 0xBF54DB31#32
  | 102 => 0xBF6C835E#32
  | 103 => 0xBF7B14BE#32
  | 104 => 0xBF800000#32
  | 105 => 0xBF7B14BE#32
  | 106 => 0xBF6C835E#32
  | 107 => 0xBF54DB31#32
  | 108 => 0xBF3504F3#32
  | 109 => 0xBF0E39DA#32
  | 110 => 0xBEC3EF15#32
  | 111 => 0xBE47C5C2#32
  | 112 => 0xA50D3132#32
  | 113 => 0x3E47C5C2#32
  | 114 => 0x3EC3EF15#32
  | 115 => 0x3F0E39DA#32
  | 116 => 0x3F3504F3#32
  | 117 => 0x3F54DB31#32
  | 118 => 0x3F6C835E#32
  | 119 => 0x3F7B14BE#32
  | 120 => 0x3F800000#32
  | 121 => 0x3F7B14BE#32
  | 122 => 0x3F6C835E#32
  | 123 => 0x3F54DB31#32
  | 124 => 0x3F3504F3#32
  | 125 => 0x3F0E39DA#32
  | 126 => 0x3EC3EF15#32
  | 127 => 0x3E47C5C2#32
  | _ => 0#32

noncomputable abbrev lit1t0_21 (i : Nat) : BitVec 32 := match i % 128 with
  | 0 => 0x80000000#32
  | 1 => 0xBE47C5C2#32
  | 2 => 0xBEC3EF15#32
  | 3 => 0xBF0E39DA#32
  | 4 => 0xBF3504F3#32
  | 5 => 0xBF54DB31#32
  | 6 => 0xBF6C835E#32
  | 7 => 0xBF7B14BE#32
  | 8 => 0xBF800000#32
  | 9 => 0xBF7B14BE#32
  | 10 => 0xBF6C835E#32
  | 11 => 0xBF54DB31#32
  | 12 => 0xBF3504F3#32
  | 13 => 0xBF0E39DA#32
  | 14 => 0xBEC3EF15#32
  | 15 => 0xBE47C5C2#32
  | 16 => 0xA50D3132#32
  | 17 => 0x3E47C5C2#32
  | 18 => 0x3EC3EF15#32
  | 19 => 0x3F0E39DA#32
  | 20 => 0x3F3504F3#32
  | 21 => 0x3F54DB31#32
  | 22 => 0x3F6C835E#32
  | 23 => 0x3F7B14BE#32
  | 24 => 0x3F800000#32
  | 25 => 0x3F7B14BE#32
  | 26 => 0x3F6C835E#32
  | 27 => 0x3F54DB31#32
  | 28 => 0x3F3504F3#32
  | 29 => 0x3F0E39DA#32
  | 30 => 0x3EC3EF15#32
  | 31 => 0x3E47C5C2#32
  | 32 => 0x80000000#32
  | 33 => 0xBE47C5C2#32
  | 34 => 0xBEC3EF15#32
  | 35 => 0xBF0E39DA#32
  | 36 => 0xBF3504F3#32
  | 37 => 0xBF54DB31#32
  | 38 => 0xBF6C835E#32
  | 39 => 0xBF7B14BE#32
  | 40 => 0xBF800000#32
  | 41 => 0xBF7B14BE#32
  | 42 => 0xBF6C835E#32
  | 43 => 0xBF54DB31#32
  | 44 => 0xBF3504F3#32
  | 45 => 0xBF0E39DA#32
  | 46 => 0xBEC3EF15#32
  | 47 => 0xBE47C5C2#32
  | 48 => 0xA50D3132#32
  | 49 => 0x3E47C5C2#32
  | 50 => 0x3EC3EF15#32
  | 51 => 0x3F0E39DA#32
  | 52 => 0x3F3504F3#32
  | 53 => 0x3F54DB31#32
  | 54 => 0x3F6C835E#32
  | 55 => 0x3F7B14BE#32
  | 56 => 0x3F800000#32
  | 57 => 0x3F7B14BE#32
  | 58 => 0x3F6C835E#32
  | 59 => 0x3F54DB31#32
  | 60 => 0x3F3504F3#32
  | 61 => 0x3F0E39DA#32
  | 62 => 0x3EC3EF15#32
  | 63 => 0x3E47C5C2#32
  | 64 => 0x80000000#32
  | 65 => 0xBE47C5C2#32
  | 66 => 0xBEC3EF15#32
  | 67 => 0xBF0E39DA#32
  | 68 => 0xBF3504F3#32
  | 69 => 0xBF54DB31#32
  | 70 => 0xBF6C835E#32
  | 71 => 0xBF7B14BE#32
  | 72 => 0xBF800000#32
  | 73 => 0xBF7B14BE#32
  | 74 => 0xBF6C835E#32
  | 75 => 0xBF54DB31#32
  | 76 => 0xBF3504F3#32
  | 77 => 0xBF0E39DA#32
  | 78 => 0xBEC3EF15#32
  | 79 => 0xBE47C5C2#32
  | 80 => 0xA50D3132#32
  | 81 => 0x3E47C5C2#32
  | 82 => 0x3EC3EF15#32
  | 83 => 0x3F0E39DA#32
  | 84 => 0x3F3504F3#32
  | 85 => 0x3F54DB31#32
  | 86 => 0x3F6C835E#32
  | 87 => 0x3F7B14BE#32
  | 88 => 0x3F800000#32
  | 89 => 0x3F7B14BE#32
  | 90 => 0x3F6C835E#32
  | 91 => 0x3F54DB31#32
  | 92 => 0x3F3504F3#32
  | 93 => 0x3F0E39DA#32
  | 94 => 0x3EC3EF15#32
  | 95 => 0x3E47C5C2#32
  | 96 => 0x80000000#32
  | 97 => 0xBE47C5C2#32
  | 98 => 0xBEC3EF15#32
  | 99 => 0xBF0E39DA#32
  | 100 => 0xBF3504F3#32
  | 101 => 0xBF54DB31#32
  | 102 => 0xBF6C835E#32
  | 103 => 0xBF7B14BE#32
  | 104 => 0xBF800000#32
  | 105 => 0xBF7B14BE#32
  | 106 => 0xBF6C835E#32
  | 107 => 0xBF54DB31#32
  | 108 => 0xBF3504F3#32
  | 109 => 0xBF0E39DA#32
  | 110 => 0xBEC3EF15#32
  | 111 => 0xBE47C5C2#32
  | 112 => 0xA50D3132#32
  | 113 => 0x3E47C5C2#32
  | 114 => 0x3EC3EF15#32
  | 115 => 0x3F0E39DA#32
  | 116 => 0x3F3504F3#32
  | 117 => 0x3F54DB31#32
  | 118 => 0x3F6C835E#32
  | 119 => 0x3F7B14BE#32
  | 120 => 0x3F800000#32
  | 121 => 0x3F7B14BE#32
  | 122 => 0x3F6C835E#32
  | 123 => 0x3F54DB31#32
  | 124 => 0x3F3504F3#32
  | 125 => 0x3F0E39DA#32
  | 126 => 0x3EC3EF15#32
  | 127 => 0x3E47C5C2#32
  | _ => 0#32

noncomputable abbrev lit1t0_22 (i : Nat) : BitVec 32 := match i % 128 with
  | 0 => 0x80000000#32
  | 1 => 0xBE47C5C2#32
  | 2 => 0xBEC3EF15#32
  | 3 => 0xBF0E39DA#32
  | 4 => 0xBF3504F3#32
  | 5 => 0xBF54DB31#32
  | 6 => 0xBF6C835E#32
  | 7 => 0xBF7B14BE#32
  | 8 => 0xBF800000#32
  | 9 => 0xBF7B14BE#32
  | 10 => 0xBF6C835E#32
  | 11 => 0xBF54DB31#32
  | 12 => 0xBF3504F3#32
  | 13 => 0xBF0E39DA#32
  | 14 => 0xBEC3EF15#32
  | 15 => 0xBE47C5C2#32
  | 16 => 0xA50D3132#32
  | 17 => 0x3E47C5C2#32
  | 18 => 0x3EC3EF15#32
  | 19 => 0x3F0E39DA#32
  | 20 => 0x3F3504F3#32
  | 21 => 0x3F54DB31#32
  | 22 => 0x3F6C835E#32
  | 23 => 0x3F7B14BE#32
  | 24 => 0x3F800000#32
  | 25 => 0x3F7B14BE#32
  | 26 => 0x3F6C835E#32
  | 27 => 0x3F54DB31#32
  | 28 => 0x3F3504F3#32
  | 29 => 0x3F0E39DA#32
  | 30 => 0x3EC3EF15#32
  | 31 => 0x3E47C5C2#32
  | 32 => 0x80000000#32
  | 33 => 0xBE47C5C2#32
  | 34 => 0xBEC3EF15#32
  | 35 => 0xBF0E39DA#32
  | 36 => 0xBF3504F3#32
  | 37 => 0xBF54DB31#32
  | 38 => 0xBF6C835E#32
  | 39 => 0xBF7B14BE#32
  | 40 => 0xBF800000#32
  | 41 => 0xBF7B14BE#32
  | 42 => 0xBF6C835E#32
  | 43 => 0xBF54DB31#32
  | 44 => 0xBF3504F3#32
  | 45 => 0xBF0E39DA#32
  | 46 => 0xBEC3EF15#32
  | 47 => 0xBE47C5C2#32
  | 48 => 0xA50D3132#32
  | 49 => 0x3E47C5C2#32
  | 50 => 0x3EC3EF15#32
  | 51 => 0x3F0E39DA#32
  | 52 => 0x3F3504F3#32
  | 53 => 0x3F54DB31#32
  | 54 => 0x3F6C835E#32
  | 55 => 0x3F7B14BE#32
  | 56 => 0x3F800000#32
  | 57 => 0x3F7B14BE#32
  | 58 => 0x3F6C835E#32
  | 59 => 0x3F54DB31#32
  | 60 => 0x3F3504F3#32
  | 61 => 0x3F0E39DA#32
  | 62 => 0x3EC3EF15#32
  | 63 => 0x3E47C5C2#32
  | 64 => 0x80000000#32
  | 65 => 0xBE5DA259#32
  | 66 => 0xBED8616C#32
  | 67 => 0xBF1BD7CA#32
  | 68 => 0xBF441B7D#32
  | 69 => 0xBF631324#32
  | 70 => 0xBF7746EA#32
  | 71 => 0xBF7FC1A0#32
  | 72 => 0xBF7C1C5C#32
  | 73 => 0xBF6C835E#32
  | 74 => 0xBF51B3F3#32
  | 75 => 0xBF2CF37B#32
  | 76 => 0xBF000000#32
  | 77 => 0xBE99F61C#32
  | 78 => 0xBDB27EB6#32
  | 79 => 0x3E05A8A8#32
  | 80 => 0x3EAF1D44#32
  | 81 => 0x3F098C78#32
  | 82 => 0x3F3504F3#32
  | 83 => 0x3F57E880#32
  | 84 => 0x3F708FB2#32
  | 85 => 0x3F7DCF55#32
  | 86 => 0x3F7F069E#32
  | 87 => 0x3F7426CB#32
  | 88 => 0x3F5DB3D7#32
  | 89 => 0x3F3CBE35#32
  | 90 => 0x3F12D5E8#32
  | 91 => 0x3EC3EF15#32
  | 92 => 0x3E31D0D4#32
  | 93 => 0xBD32AA3E#32
  | 94 => 0xBE8483EE#32
  | 95 => 0xBEEC6A50#32
  | 96 => 0xBF248DBB#32
  | 97 => 0xBF4B1934#32
  | 98 => 0xBF6803CA#32
  | 99 => 0xBF79EE89#32
  | 100 => 0xBF800000#32
  | 101 => 0xBF79EE89#32
  | 102 => 0xBF6803CA#32
  | 103 => 0xBF4B1934#32
  | 104 => 0xBF248DBB#32
  | 105 => 0xBEEC6A50#32
  | 106 => 0xBE8483EE#32
  | 107 => 0xBD32AA3E#32
  | 108 => 0x3E31D0D4#32
  | 109 => 0x3EC3EF15#32
  | 110 => 0x3F12D5E8#32
  | 111 => 0x3F3CBE35#32
  | 112 => 0x3F5DB3D7#32
  | 113 => 0x3F7426CB#32
  | 114 => 0x3F7F069E#32
  | 115 => 0x3F7DCF55#32
  | 116 => 0x3F708FB2#32
  | 117 => 0x3F57E880#32
  | 118 => 0x3F3504F3#32
  | 119 => 0x3F098C78#32
  | 120 => 0x3EAF1D44#32
  | 121 => 0x3E05A8A8#32
  | 122 => 0xBDB27EB6#32
  | 123 => 0xBE99F61C#32
  | 124 => 0xBF000000#32
  | 125 => 0xBF2CF37B#32
  | 126 => 0xBF51B3F3#32
  | 127 => 0xBF6C835E#32
  | _ => 0#32

noncomputable abbrev lit1t0_23 (i : Nat) : BitVec 32 := match i % 128 with
  | 0 => 0xBF7C1C5C#32
  | 1 => 0xBF7FC1A0#32
  | 2 => 0xBF7746EA#32
  | 3 => 0xBF631324#32
  | 4 => 0xBF441B7D#32
  | 5 => 0xBF1BD7CA#32
  | 6 => 0xBED8616C#32
  | 7 => 0xBE5DA259#32
  | 8 => 0xA50D3132#32
  | 9 => 0x3E5DA259#32
  | 10 => 0x3ED8616C#32
  | 11 => 0x3F1BD7CA#32
  | 12 => 0x3F441B7D#32
  | 13 => 0x3F631324#32
  | 14 => 0x3F7746EA#32
  | 15 => 0x3F7FC1A0#32
  | 16 => 0x3F7C1C5C#32
  | 17 => 0x3F6C835E#32
  | 18 => 0x3F51B3F3#32
  | 19 => 0x3F2CF37B#32
  | 20 => 0x3F000000#32
  | 21 => 0x3E99F61C#32
  | 22 => 0x3DB27EB6#32
  | 23 => 0xBE05A8A8#32
  | 24 => 0xBEAF1D44#32
  | 25 => 0xBF098C78#32
  | 26 => 0xBF3504F3#32
  | 27 => 0xBF57E880#32
  | 28 => 0xBF708FB2#32
  | 29 => 0xBF7DCF55#32
  | 30 => 0xBF7F069E#32
  | 31 => 0xBF7426CB#32
  | 32 => 0xBF5DB3D7#32
  | 33 => 0xBF3CBE35#32
  | 34 => 0xBF12D5E8#32
  | 35 => 0xBEC3EF15#32
  | 36 => 0xBE31D0D4#32
  | 37 => 0x3D32AA3E#32
  | 38 => 0x3E8483EE#32
  | 39 => 0x3EEC6A50#32
  | 40 => 0x3F248DBB#32
  | 41 => 0x3F4B1934#32
  | 42 => 0x3F6803CA#32
  | 43 => 0x3F79EE89#32
  | 44 => 0x3F800000#32
  | 45 => 0x3F79EE89#32
  | 46 => 0x3F6803CA#32
  | 47 => 0x3F4B1934#32
  | 48 => 0x3F248DBB#32
  | 49 => 0x3EEC6A50#32
  | 50 => 0x3E8483EE#32
  | 51 => 0x3D32AA3E#32
  | 52 => 0xBE31D0D4#32
  | 53 => 0xBEC3EF15#32
  | 54 => 0xBF12D5E8#32
  | 55 => 0xBF3CBE35#32
  | 56 => 0xBF5DB3D7#32
  | 57 => 0xBF7426CB#32
  | 58 => 0xBF7F069E#32
  | 59 => 0xBF7DCF55#32
  | 60 => 0xBF708FB2#32
  | 61 => 0xBF57E880#32
  | 62 => 0xBF3504F3#32
  | 63 => 0xBF098C78#32
  | 64 => 0xBEAF1D44#32
  | 65 => 0xBE05A8A8#32
  | 66 => 0x3DB27EB6#32
  | 67 => 0x3E99F61C#32
  | 68 => 0x3F000000#32
  | 69 => 0x3F2CF37B#32
  | 70 => 0x3F51B3F3#32
  | 71 => 0x3F6C835E#32
  | 72 => 0x3F7C1C5C#32
  | 73 => 0x3F7FC1A0#32
  | 74 => 0x3F7746EA#32
  | 75 => 0x3F631324#32
  | 76 => 0x3F441B7D#32
  | 77 => 0x3F1BD7CA#32
  | 78 => 0x3ED8616C#32
  | 79 => 0x3E5DA259#32
  | 80 => 0x80000000#32
  | 81 => 0xBE5DA259#32
  | 82 => 0xBED8616C#32
  | 83 => 0xBF1BD7CA#32
  | 84 => 0xBF441B7D#32
  | 85 => 0xBF631324#32
  | 86 => 0xBF7746EA#32
  | 87 => 0xBF7FC1A0#32
  | 88 => 0xBF7C1C5C#32
  | 89 => 0xBF6C835E#32
  | 90 => 0xBF51B3F3#32
  | 91 => 0xBF2CF37B#32
  | 92 => 0xBF000000#32
  | 93 => 0xBE99F61C#32
  | 94 => 0xBDB27EB6#32
  | 95 => 0x3E05A8A8#32
  | 96 => 0x3EAF1D44#32
  | 97 => 0x3F098C78#32
  | 98 => 0x3F3504F3#32
  | 99 => 0x3F57E880#32
  | 100 => 0x3F708FB2#32
  | 101 => 0x3F7DCF55#32
  | 102 => 0x3F7F069E#32
  | 103 => 0x3F7426CB#32
  | 104 => 0x3F5DB3D7#32
  | 105 => 0x3F3CBE35#32
  | 106 => 0x3F12D5E8#32
  | 107 => 0x3EC3EF15#32
  | 108 => 0x3E31D0D4#32
  | 109 => 0xBD32AA3E#32
  | 110 => 0xBE8483EE#32
  | 111 => 0xBEEC6A50#32
  | 112 => 0xBF248DBB#32
  | 113 => 0xBF4B1934#32
  | 114 => 0xBF6803CA#32
  | 115 => 0xBF79EE89#32
  | 116 => 0xBF800000#32
  | 117 => 0xBF79EE89#32
  | 118 => 0xBF6803CA#32
  | 119 => 0xBF4B1934#32
  | 120 => 0xBF248DBB#32
  | 121 => 0xBEEC6A50#32
  | 122 => 0xBE8483EE#32
  | 123 => 0xBD32AA3E#32
  | 124 => 0x3E31D0D4#32
  | 125 => 0x3EC3EF15#32
  | 126 => 0x3F12D5E8#32
  | 127 => 0x3F3CBE35#32
  | _ => 0#32

noncomputable abbrev lit1t0_24 (i : Nat) : BitVec 32 := match i % 128 with
  | 0 => 0x3F5DB3D7#32
  | 1 => 0x3F7426CB#32
  | 2 => 0x3F7F069E#32
  | 3 => 0x3F7DCF55#32
  | 4 => 0x3F708FB2#32
  | 5 => 0x3F57E880#32
  | 6 => 0x3F3504F3#32
  | 7 => 0x3F098C78#32
  | 8 => 0x3EAF1D44#32
  | 9 => 0x3E05A8A8#32
  | 10 => 0xBDB27EB6#32
  | 11 => 0xBE99F61C#32
  | 12 => 0xBF000000#32
  | 13 => 0xBF2CF37B#32
  | 14 => 0xBF51B3F3#32
  | 15 => 0xBF6C835E#32
  | 16 => 0xBF7C1C5C#32
  | 17 => 0xBF7FC1A0#32
  | 18 => 0xBF7746EA#32
  | 19 => 0xBF631324#32
  | 20 => 0xBF441B7D#32
  | 21 => 0xBF1BD7CA#32
  | 22 => 0xBED8616C#32
  | 23 => 0xBE5DA259#32
  | 24 => 0xA50D3132#32
  | 25 => 0x3E5DA259#32
  | 26 => 0x3ED8616C#32
  | 27 => 0x3F1BD7CA#32
  | 28 => 0x3F441B7D#32
  | 29 => 0x3F631324#32
  | 30 => 0x3F7746EA#32
  | 31 => 0x3F7FC1A0#32
  | 32 => 0x3F7C1C5C#32
  | 33 => 0x3F6C835E#32
  | 34 => 0x3F51B3F3#32
  | 35 => 0x3F2CF37B#32
  | 36 => 0x3F000000#32
  | 37 => 0x3E99F61C#32
  | 38 => 0x3DB27EB6#32
  | 39 => 0xBE05A8A8#32
  | 40 => 0xBEAF1D44#32
  | 41 => 0xBF098C78#32
  | 42 => 0xBF3504F3#32
  | 43 => 0xBF57E880#32
  | 44 => 0xBF708FB2#32
  | 45 => 0xBF7DCF55#32
  | 46 => 0xBF7F069E#32
  | 47 => 0xBF7426CB#32
  | 48 => 0xBF5DB3D7#32
  | 49 => 0xBF3CBE35#32
  | 50 => 0xBF12D5E8#32
  | 51 => 0xBEC3EF15#32
  | 52 => 0xBE31D0D4#32
  | 53 => 0x3D32AA3E#32
  | 54 => 0x3E8483EE#32
  | 55 => 0x3EEC6A50#32
  | 56 => 0x3F248DBB#32
  | 57 => 0x3F4B1934#32
  | 58 => 0x3F6803CA#32
  | 59 => 0x3F79EE89#32
  | 60 => 0x3F800000#32
  | 61 => 0x3F79EE89#32
  | 62 => 0x3F6803CA#32
  | 63 => 0x3F4B1934#32
  | 64 => 0x3F248DBB#32
  | 65 => 0x3EEC6A50#32
  | 66 => 0x3E8483EE#32
  | 67 => 0x3D32AA3E#32
  | 68 => 0xBE31D0D4#32
  | 69 => 0xBEC3EF15#32
  | 70 => 0xBF12D5E8#32
  | 71 => 0xBF3CBE35#32
  | 72 => 0xBF5DB3D7#32
  | 73 => 0xBF7426CB#32
  | 74 => 0xBF7F069E#32
  | 75 => 0xBF7DCF55#32
  | 76 => 0xBF708FB2#32
  | 77 => 0xBF57E880#32
  | 78 => 0xBF3504F3#32
  | 79 => 0xBF098C78#32
  | 80 => 0xBEAF1D44#32
  | 81 => 0xBE05A8A8#32
  | 82 => 0x3DB27EB6#32
  | 83 => 0x3E99F61C#32
  | 84 => 0x3F000000#32
  | 85 => 0x3F2CF37B#32
  | 86 => 0x3F51B3F3#32
  | 87 => 0x3F6C835E#32
  | 88 => 0x3F7C1C5C#32
  | 89 => 0x3F7FC1A0#32
  | 90 => 0x3F7746EA#32
  | 91 => 0x3F631324#32
  | 92 => 0x3F441B7D#32
  | 93 => 0x3F1BD7CA#32
  | 94 => 0x3ED8616C#32
  | 95 => 0x3E5DA259#32
  | 96 => 0x80000000#32
  | 97 => 0xBE7363EE#32
  | 98 => 0xBEEC6A50#32
  | 99 => 0xBF28CAE3#32
  | 100 => 0xBF51B3F3#32
  | 101 => 0xBF6E9811#32
  | 102 => 0xBF7DCF55#32
  | 103 => 0xBF7E7A7A#32
  | 104 => 0xBF708FB2#32
  | 105 => 0xBF54DB31#32
  | 106 => 0xBF2CF37B#32
  | 107 => 0xBEF64429#32
  | 108 => 0xBE8483EE#32
  | 109 => 0xBCB2B521#32
  | 110 => 0x3E5DA259#32
  | 111 => 0x3EE273AA#32
  | 112 => 0x3F248DBB#32
  | 113 => 0x3F4E7327#32
  | 114 => 0x3F6C835E#32
  | 115 => 0x3F7D0543#32
  | 116 => 0x3F7F069E#32
  | 117 => 0x3F726A03#32
  | 118 => 0x3F57E880#32
  | 119 => 0x3F310700#32
  | 120 => 0x3F000000#32
  | 121 => 0x3E8F45C0#32
  | 122 => 0x3D32AA3E#32
  | 123 => 0xBE47C5C2#32
  | 124 => 0xBED8616C#32
  | 125 => 0xBF203C85#32
  | 126 => 0xBF4B1934#32
  | 127 => 0xBF6A51DA#32
  | _ => 0#32

noncomputable abbrev lit1t0_25 (i : Nat) : BitVec 32 := match i % 128 with
  | 0 => 0xBF7C1C5C#32
  | 1 => 0xBF7F73AF#32
  | 2 => 0xBF7426CB#32
  | 3 => 0xBF5ADB81#32
  | 4 => 0xBF3504F3#32
  | 5 => 0xBF04CE53#32
  | 6 => 0xBE99F61C#32
  | 7 => 0xBD85F213#32
  | 8 => 0x3E31D0D4#32
  | 9 => 0x3ECE34D0#32
  | 10 => 0x3F1BD7CA#32
  | 11 => 0x3F47A682#32
  | 12 => 0x3F6803CA#32
  | 13 => 0x3F7B14BE#32
  | 14 => 0x3F7FC1A0#32
  | 15 => 0x3F75C5D4#32
  | 16 => 0x3F5DB3D7#32
  | 17 => 0x3F38ECD8#32
  | 18 => 0x3F098C78#32
  | 19 => 0x3EA493B7#32
  | 20 => 0x3DB27EB6#32
  | 21 => 0xBE1BC63C#32
  | 22 => 0xBEC3EF15#32
  | 23 => 0xBF176012#32
  | 24 => 0xBF441B7D#32
  | 25 => 0xBF659974#32
  | 26 => 0xBF79EE89#32
  | 27 => 0xBF7FF067#32
  | 28 => 0xBF7746EA#32
  | 29 => 0xBF60712A#32
  | 30 => 0xBF3CBE35#32
  | 31 => 0xBF0E39DA#32
  | 32 => 0xBEAF1D44#32
  | 33 => 0xBDDEF599#32
  | 34 => 0x3E05A8A8#32
  | 35 => 0x3EB9917B#32
  | 36 => 0x3F12D5E8#32
  | 37 => 0x3F407893#32
  | 38 => 0x3F631324#32
  | 39 => 0x3F78A9E0#32
  | 40 => 0x3F800000#32
  | 41 => 0x3F78A9E0#32
  | 42 => 0x3F631324#32
  | 43 => 0x3F407893#32
  | 44 => 0x3F12D5E8#32
  | 45 => 0x3EB9917B#32
  | 46 => 0x3E05A8A8#32
  | 47 => 0xBDDEF599#32
  | 48 => 0xBEAF1D44#32
  | 49 => 0xBF0E39DA#32
  | 50 => 0xBF3CBE35#32
  | 51 => 0xBF60712A#32
  | 52 => 0xBF7746EA#32
  | 53 => 0xBF7FF067#32
  | 54 => 0xBF79EE89#32
  | 55 => 0xBF659974#32
  | 56 => 0xBF441B7D#32
  | 57 => 0xBF176012#32
  | 58 => 0xBEC3EF15#32
  | 59 => 0xBE1BC63C#32
  | 60 => 0x3DB27EB6#32
  | 61 => 0x3EA493B7#32
  | 62 => 0x3F098C78#32
  | 63 => 0x3F38ECD8#32
  | 64 => 0x3F5DB3D7#32
  | 65 => 0x3F75C5D4#32
  | 66 => 0x3F7FC1A0#32
  | 67 => 0x3F7B14BE#32
  | 68 => 0x3F6803CA#32
  | 69 => 0x3F47A682#32
  | 70 => 0x3F1BD7CA#32
  | 71 => 0x3ECE34D0#32
  | 72 => 0x3E31D0D4#32
  | 73 => 0xBD85F213#32
  | 74 => 0xBE99F61C#32
  | 75 => 0xBF04CE53#32
  | 76 => 0xBF3504F3#32
  | 77 => 0xBF5ADB81#32
  | 78 => 0xBF7426CB#32
  | 79 => 0xBF7F73AF#32
  | 80 => 0xBF7C1C5C#32
  | 81 => 0xBF6A51DA#32
  | 82 => 0xBF4B1934#32
  | 83 => 0xBF203C85#32
  | 84 => 0xBED8616C#32
  | 85 => 0xBE47C5C2#32
  | 86 => 0x3D32AA3E#32
  | 87 => 0x3E8F45C0#32
  | 88 => 0x3F000000#32
  | 89 => 0x3F310700#32
  | 90 => 0x3F57E880#32
  | 91 => 0x3F726A03#32
  | 92 => 0x3F7F069E#32
  | 93 => 0x3F7D0543#32
  | 94 => 0x3F6C835E#32
  | 95 => 0x3F4E7327#32
  | 96 => 0x3F248DBB#32
  | 97 => 0x3EE273AA#32
  | 98 => 0x3E5DA259#32
  | 99 => 0xBCB2B521#32
  | 100 => 0xBE8483EE#32
  | 101 => 0xBEF64429#32
  | 102 => 0xBF2CF37B#32
  | 103 => 0xBF54DB31#32
  | 104 => 0xBF708FB2#32
  | 105 => 0xBF7E7A7A#32
  | 106 => 0xBF7DCF55#32
  | 107 => 0xBF6E9811#32
  | 108 => 0xBF51B3F3#32
  | 109 => 0xBF28CAE3#32
  | 110 => 0xBEEC6A50#32
  | 111 => 0xBE7363EE#32
  | 112 => 0xA50D3132#32
  | 113 => 0x3E7363EE#32
  | 114 => 0x3EEC6A50#32
  | 115 => 0x3F28CAE3#32
  | 116 => 0x3F51B3F3#32
  | 117 => 0x3F6E9811#32
  | 118 => 0x3F7DCF55#32
  | 119 => 0x3F7E7A7A#32
  | 120 => 0x3F708FB2#32
  | 121 => 0x3F54DB31#32
  | 122 => 0x3F2CF37B#32
  | 123 => 0x3EF64429#32
  | 124 => 0x3E8483EE#32
  | 125 => 0x3CB2B521#32
  | 126 => 0xBE5DA259#32
  | 127 => 0xBEE273AA#32
  | _ => 0#32

noncomputable abbrev lit1t0_26 (i : Nat) : BitVec 32 := match i % 128 with
  | 0 => 0xBF248DBB#32
  | 1 => 0xBF4E7327#32
  | 2 => 0xBF6C835E#32
  | 3 => 0xBF7D0543#32
  | 4 => 0xBF7F069E#32
  | 5 => 0xBF726A03#32
  | 6 => 0xBF57E880#32
  | 7 => 0xBF310700#32
  | 8 => 0xBF000000#32
  | 9 => 0xBE8F45C0#32
  | 10 => 0xBD32AA3E#32
  | 11 => 0x3E47C5C2#32
  | 12 => 0x3ED8616C#32
  | 13 => 0x3F203C85#32
  | 14 => 0x3F4B1934#32
  | 15 => 0x3F6A51DA#32
  | 16 => 0x3F7C1C5C#32
  | 17 => 0x3F7F73AF#32
  | 18 => 0x3F7426CB#32
  | 19 => 0x3F5ADB81#32
  | 20 => 0x3F3504F3#32
  | 21 => 0x3F04CE53#32
  | 22 => 0x3E99F61C#32
  | 23 => 0x3D85F213#32
  | 24 => 0xBE31D0D4#32
  | 25 => 0xBECE34D0#32
  | 26 => 0xBF1BD7CA#32
  | 27 => 0xBF47A682#32
  | 28 => 0xBF6803CA#32
  | 29 => 0xBF7B14BE#32
  | 30 => 0xBF7FC1A0#32
  | 31 => 0xBF75C5D4#32
  | 32 => 0xBF5DB3D7#32
  | 33 => 0xBF38ECD8#32
  | 34 => 0xBF098C78#32
  | 35 => 0xBEA493B7#32
  | 36 => 0xBDB27EB6#32
  | 37 => 0x3E1BC63C#32
  | 38 => 0x3EC3EF15#32
  | 39 => 0x3F176012#32
  | 40 => 0x3F441B7D#32
  | 41 => 0x3F659974#32
  | 42 => 0x3F79EE89#32
  | 43 => 0x3F7FF067#32
  | 44 => 0x3F7746EA#32
  | 45 => 0x3F60712A#32
  | 46 => 0x3F3CBE35#32
  | 47 => 0x3F0E39DA#32
  | 48 => 0x3EAF1D44#32
  | 49 => 0x3DDEF599#32
  | 50 => 0xBE05A8A8#32
  | 51 => 0xBEB9917B#32
  | 52 => 0xBF12D5E8#32
  | 53 => 0xBF407893#32
  | 54 => 0xBF631324#32
  | 55 => 0xBF78A9E0#32
  | 56 => 0xBF800000#32
  | 57 => 0xBF78A9E0#32
  | 58 => 0xBF631324#32
  | 59 => 0xBF407893#32
  | 60 => 0xBF12D5E8#32
  | 61 => 0xBEB9917B#32
  | 62 => 0xBE05A8A8#32
  | 63 => 0x3DDEF599#32
  | 64 => 0x3EAF1D44#32
  | 65 => 0x3F0E39DA#32
  | 66 => 0x3F3CBE35#32
  | 67 => 0x3F60712A#32
  | 68 => 0x3F7746EA#32
  | 69 => 0x3F7FF067#32
  | 70 => 0x3F79EE89#32
  | 71 => 0x3F659974#32
  | 72 => 0x3F441B7D#32
  | 73 => 0x3F176012#32
  | 74 => 0x3EC3EF15#32
  | 75 => 0x3E1BC63C#32
  | 76 => 0xBDB27EB6#32
  | 77 => 0xBEA493B7#32
  | 78 => 0xBF098C78#32
  | 79 => 0xBF38ECD8#32
  | 80 => 0xBF5DB3D7#32
  | 81 => 0xBF75C5D4#32
  | 82 => 0xBF7FC1A0#32
  | 83 => 0xBF7B14BE#32
  | 84 => 0xBF6803CA#32
  | 85 => 0xBF47A682#32
  | 86 => 0xBF1BD7CA#32
  | 87 => 0xBECE34D0#32
  | 88 => 0xBE31D0D4#32
  | 89 => 0x3D85F213#32
  | 90 => 0x3E99F61C#32
  | 91 => 0x3F04CE53#32
  | 92 => 0x3F3504F3#32
  | 93 => 0x3F5ADB81#32
  | 94 => 0x3F7426CB#32
  | 95 => 0x3F7F73AF#32
  | 96 => 0x3F7C1C5C#32
  | 97 => 0x3F6A51DA#32
  | 98 => 0x3F4B1934#32
  | 99 => 0x3F203C85#32
  | 100 => 0x3ED8616C#32
  | 101 => 0x3E47C5C2#32
  | 102 => 0xBD32AA3E#32
  | 103 => 0xBE8F45C0#32
  | 104 => 0xBF000000#32
  | 105 => 0xBF310700#32
  | 106 => 0xBF57E880#32
  | 107 => 0xBF726A03#32
  | 108 => 0xBF7F069E#32
  | 109 => 0xBF7D0543#32
  | 110 => 0xBF6C835E#32
  | 111 => 0xBF4E7327#32
  | 112 => 0xBF248DBB#32
  | 113 => 0xBEE273AA#32
  | 114 => 0xBE5DA259#32
  | 115 => 0x3CB2B521#32
  | 116 => 0x3E8483EE#32
  | 117 => 0x3EF64429#32
  | 118 => 0x3F2CF37B#32
  | 119 => 0x3F54DB31#32
  | 120 => 0x3F708FB2#32
  | 121 => 0x3F7E7A7A#32
  | 122 => 0x3F7DCF55#32
  | 123 => 0x3F6E9811#32
  | 124 => 0x3F51B3F3#32
  | 125 => 0x3F28CAE3#32
  | 126 => 0x3EEC6A50#32
  | 127 => 0x3E7363EE#32
  | _ => 0#32

noncomputable abbrev lit1t0_27 (i : Nat) : BitVec 32 := match i % 128 with
  | 0 => 0x80000000#32
  | 1 => 0xBE8483EE#32
  | 2 => 0xBF000000#32
  | 3 => 0xBF3504F3#32
  | 4 => 0xBF5DB3D7#32
  | 5 => 0xBF7746EA#32
  | 6 => 0xBF800000#32
  | 7 => 0xBF7746EA#32
  | 8 => 0xBF5DB3D7#32
  | 9 => 0xBF3504F3#32
  | 10 => 0xBF000000#32
  | 11 => 0xBE8483EE#32
  | 12 => 0xA50D3132#32
  | 13 => 0x3E8483EE#32
  | 14 => 0x3F000000#32
  | 15 => 0x3F3504F3#32
  | 16 => 0x3F5DB3D7#32
  | 17 => 0x3F7746EA#32
  | 18 => 0x3F800000#32
  | 19 => 0x3F7746EA#32
  | 20 => 0x3F5DB3D7#32
  | 21 => 0x3F3504F3#32
  | 22 => 0x3F000000#32
  | 23 => 0x3E8483EE#32
  | 24 => 0x80000000#32
  | 25 => 0xBE8483EE#32
  | 26 => 0xBF000000#32
  | 27 => 0xBF3504F3#32
  | 28 => 0xBF5DB3D7#32
  | 29 => 0xBF7746EA#32
  | 30 => 0xBF800000#32
  | 31 => 0xBF7746EA#32
  | 32 => 0xBF5DB3D7#32
  | 33 => 0xBF3504F3#32
  | 34 => 0xBF000000#32
  | 35 => 0xBE8483EE#32
  | 36 => 0xA50D3132#32
  | 37 => 0x3E8483EE#32
  | 38 => 0x3F000000#32
  | 39 => 0x3F3504F3#32
  | 40 => 0x3F5DB3D7#32
  | 41 => 0x3F7746EA#32
  | 42 => 0x3F800000#32
  | 43 => 0x3F7746EA#32
  | 44 => 0x3F5DB3D7#32
  | 45 => 0x3F3504F3#32
  | 46 => 0x3F000000#32
  | 47 => 0x3E8483EE#32
  | 48 => 0x80000000#32
  | 49 => 0xBE8483EE#32
  | 50 => 0xBF000000#32
  | 51 => 0xBF3504F3#32
  | 52 => 0xBF5DB3D7#32
  | 53 => 0xBF7746EA#32
  | 54 => 0xBF800000#32
  | 55 => 0xBF7746EA#32
  | 56 => 0xBF5DB3D7#32
  | 57 => 0xBF3504F3#32
  | 58 => 0xBF000000#32
  | 59 => 0xBE8483EE#32
  | 60 => 0xA50D3132#32
  | 61 => 0x3E8483EE#32
  | 62 => 0x3F000000#32
  | 63 => 0x3F3504F3#32
  | 64 => 0x3F5DB3D7#32
  | 65 => 0x3F7746EA#32
  | 66 => 0x3F800000#32
  | 67 => 0x3F7746EA#32
  | 68 => 0x3F5DB3D7#32
  | 69 => 0x3F3504F3#32
  | 70 => 0x3F000000#32
  | 71 => 0x3E8483EE#32
  | 72 => 0x80000000#32
  | 73 => 0xBE8483EE#32
  | 74 => 0xBF000000#32
  | 75 => 0xBF3504F3#32
  | 76 => 0xBF5DB3D7#32
  | 77 => 0xBF7746EA#32
  | 78 => 0xBF800000#32
  | 79 => 0xBF7746EA#32
  | 80 => 0xBF5DB3D7#32
  | 81 => 0xBF3504F3#32
  | 82 => 0xBF000000#32
  | 83 => 0xBE8483EE#32
  | 84 => 0xA50D3132#32
  | 85 => 0x3E8483EE#32
  | 86 => 0x3F000000#32
  | 87 => 0x3F3504F3#32
  | 88 => 0x3F5DB3D7#32
  | 89 => 0x3F7746EA#32
  | 90 => 0x3F800000#32
  | 91 => 0x3F7746EA#32
  | 92 => 0x3F5DB3D7#32
  | 93 => 0x3F3504F3#32
  | 94 => 0x3F000000#32
  | 95 => 0x3E8483EE#32
  | 96 => 0x80000000#32
  | 97 => 0xBE8483EE#32
  | 98 => 0xBF000000#32
  | 99 => 0xBF3504F3#32
  | 100 => 0xBF5DB3D7#32
  | 101 => 0xBF7746EA#32
  | 102 => 0xBF800000#32
  | 103 => 0xBF7746EA#32
  | 104 => 0xBF5DB3D7#32
  | 105 => 0xBF3504F3#32
  | 106 => 0xBF000000#32
  | 107 => 0xBE8483EE#32
  | 108 => 0xA50D3132#32
  | 109 => 0x3E8483EE#32
  | 110 => 0x3F000000#32
  | 111 => 0x3F3504F3#32
  | 112 => 0x3F5DB3D7#32
  | 113 => 0x3F7746EA#32
  | 114 => 0x3F800000#32
  | 115 => 0x3F7746EA#32
  | 116 => 0x3F5DB3D7#32
  | 117 => 0x3F3504F3#32
  | 118 => 0x3F000000#32
  | 119 => 0x3E8483EE#32
  | 120 => 0x80000000#32
  | 121 => 0xBE8483EE#32
  | 122 => 0xBF000000#32
  | 123 => 0xBF3504F3#32
  | 124 => 0xBF5DB3D7#32
  | 125 => 0xBF7746EA#32
  | 126 => 0xBF800000#32
  | 127 => 0xBF7746EA#32
  | _ => 0#32

noncomputable abbrev lit1t0_28 (i : Nat) : BitVec 32 := match i % 128 with
  | 0 => 0xBF5DB3D7#32
  | 1 => 0xBF3504F3#32
  | 2 => 0xBF000000#32
  | 3 => 0xBE8483EE#32
  | 4 => 0xA50D3132#32
  | 5 => 0x3E8483EE#32
  | 6 => 0x3F000000#32
  | 7 => 0x3F3504F3#32
  | 8 => 0x3F5DB3D7#32
  | 9 => 0x3F7746EA#32
  | 10 => 0x3F800000#32
  | 11 => 0x3F7746EA#32
  | 12 => 0x3F5DB3D7#32
  | 13 => 0x3F3504F3#32
  | 14 => 0x3F000000#32
  | 15 => 0x3E8483EE#32
  | 16 => 0x80000000#32
  | 17 => 0xBE8483EE#32
  | 18 => 0xBF000000#32
  | 19 => 0xBF3504F3#32
  | 20 => 0xBF5DB3D7#32
  | 21 => 0xBF7746EA#32
  | 22 => 0xBF800000#32
  | 23 => 0xBF7746EA#32
  | 24 => 0xBF5DB3D7#32
  | 25 => 0xBF3504F3#32
  | 26 => 0xBF000000#32
  | 27 => 0xBE8483EE#32
  | 28 => 0xA50D3132#32
  | 29 => 0x3E8483EE#32
  | 30 => 0x3F000000#32
  | 31 => 0x3F3504F3#32
  | 32 => 0x3F5DB3D7#32
  | 33 => 0x3F7746EA#32
  | 34 => 0x3F800000#32
  | 35 => 0x3F7746EA#32
  | 36 => 0x3F5DB3D7#32
  | 37 => 0x3F3504F3#32
  | 38 => 0x3F000000#32
  | 39 => 0x3E8483EE#32
  | 40 => 0x80000000#32
  | 41 => 0xBE8483EE#32
  | 42 => 0xBF000000#32
  | 43 => 0xBF3504F3#32
  | 44 => 0xBF5DB3D7#32
  | 45 => 0xBF7746EA#32
  | 46 => 0xBF800000#32
  | 47 => 0xBF7746EA#32
  | 48 => 0xBF5DB3D7#32
  | 49 => 0xBF3504F3#32
  | 50 => 0xBF000000#32
  | 51 => 0xBE8483EE#32
  | 52 => 0xA50D3132#32
  | 53 => 0x3E8483EE#32
  | 54 => 0x3F000000#32
  | 55 => 0x3F3504F3#32
  | 56 => 0x3F5DB3D7#32
  | 57 => 0x3F7746EA#32
  | 58 => 0x3F800000#32
  | 59 => 0x3F7746EA#32
  | 60 => 0x3F5DB3D7#32
  | 61 => 0x3F3504F3#32
  | 62 => 0x3F000000#32
  | 63 => 0x3E8483EE#32
  | 64 => 0x80000000#32
  | 65 => 0xBE8483EE#32
  | 66 => 0xBF000000#32
  | 67 => 0xBF3504F3#32
  | 68 => 0xBF5DB3D7#32
  | 69 => 0xBF7746EA#32
  | 70 => 0xBF800000#32
  | 71 => 0xBF7746EA#32
  | 72 => 0xBF5DB3D7#32
  | 73 => 0xBF3504F3#32
  | 74 => 0xBF000000#32
  | 75 => 0xBE8483EE#32
  | 76 => 0xA50D3132#32
  | 77 => 0x3E8483EE#32
  | 78 => 0x3F000000#32
  | 79 => 0x3F3504F3#32
  | 80 => 0x3F5DB3D7#32
  | 81 => 0x3F7746EA#32
  | 82 => 0x3F800000#32
  | 83 => 0x3F7746EA#32
  | 84 => 0x3F5DB3D7#32
  | 85 => 0x3F3504F3#32
  | 86 => 0x3F000000#32
  | 87 => 0x3E8483EE#32
  | 88 => 0x80000000#32
  | 89 => 0xBE8483EE#32
  | 90 => 0xBF000000#32
  | 91 => 0xBF3504F3#32
  | 92 => 0xBF5DB3D7#32
  | 93 => 0xBF7746EA#32
  | 94 => 0xBF800000#32
  | 95 => 0xBF7746EA#32
  | 96 => 0xBF5DB3D7#32
  | 97 => 0xBF3504F3#32
  | 98 => 0xBF000000#32
  | 99 => 0xBE8483EE#32
  | 100 => 0xA50D3132#32
  | 101 => 0x3E8483EE#32
  | 102 => 0x3F000000#32
  | 103 => 0x3F3504F3#32
  | 104 => 0x3F5DB3D7#32
  | 105 => 0x3F7746EA#32
  | 106 => 0x3F800000#32
  | 107 => 0x3F7746EA#32
  | 108 => 0x3F5DB3D7#32
  | 109 => 0x3F3504F3#32
  | 110 => 0x3F000000#32
  | 111 => 0x3E8483EE#32
  | 112 => 0x80000000#32
  | 113 => 0xBE8483EE#32
  | 114 => 0xBF000000#32
  | 115 => 0xBF3504F3#32
  | 116 => 0xBF5DB3D7#32
  | 117 => 0xBF7746EA#32
  | 118 => 0xBF800000#32
  | 119 => 0xBF7746EA#32
  | 120 => 0xBF5DB3D7#32
  | 121 => 0xBF3504F3#32
  | 122 => 0xBF000000#32
  | 123 => 0xBE8483EE#32
  | 124 => 0xA50D3132#32
  | 125 => 0x3E8483EE#32
  | 126 => 0x3F000000#32
  | 127 => 0x3F3504F3#32
  | _ => 0#32

noncomputable abbrev lit1t0_29 (i : Nat) : BitVec 32 := match i % 128 with
  | 0 => 0x3F5DB3D7#32
  | 1 => 0x3F7746EA#32
  | 2 => 0x3F800000#32
  | 3 => 0x3F7746EA#32
  | 4 => 0x3F5DB3D7#32
  | 5 => 0x3F3504F3#32
  | 6 => 0x3F000000#32
  | 7 => 0x3E8483EE#32
  | 8 => 0x80000000#32
  | 9 => 0xBE8483EE#32
  | 10 => 0xBF000000#32
  | 11 => 0xBF3504F3#32
  | 12 => 0xBF5DB3D7#32
  | 13 => 0xBF7746EA#32
  | 14 => 0xBF800000#32
  | 15 => 0xBF7746EA#32
  | 16 => 0xBF5DB3D7#32
  | 17 => 0xBF3504F3#32
  | 18 => 0xBF000000#32
  | 19 => 0xBE8483EE#32
  | 20 => 0xA50D3132#32
  | 21 => 0x3E8483EE#32
  | 22 => 0x3F000000#32
  | 23 => 0x3F3504F3#32
  | 24 => 0x3F5DB3D7#32
  | 25 => 0x3F7746EA#32
  | 26 => 0x3F800000#32
  | 27 => 0x3F7746EA#32
  | 28 => 0x3F5DB3D7#32
  | 29 => 0x3F3504F3#32
  | 30 => 0x3F000000#32
  | 31 => 0x3E8483EE#32
  | 32 => 0x80000000#32
  | 33 => 0xBE8F45C0#32
  | 34 => 0xBF098C78#32
  | 35 => 0xBF407893#32
  | 36 => 0xBF6803CA#32
  | 37 => 0xBF7D0543#32
  | 38 => 0xBF7DCF55#32
  | 39 => 0xBF6A51DA#32
  | 40 => 0xBF441B7D#32
  | 41 => 0xBF0E39DA#32
  | 42 => 0xBE99F61C#32
  | 43 => 0xBCB2B521#32
  | 44 => 0x3E8483EE#32
  | 45 => 0x3F04CE53#32
  | 46 => 0x3F3CBE35#32
  | 47 => 0x3F659974#32
  | 48 => 0x3F7C1C5C#32
  | 49 => 0x3F7E7A7A#32
  | 50 => 0x3F6C835E#32
  | 51 => 0x3F47A682#32
  | 52 => 0x3F12D5E8#32
  | 53 => 0x3EA493B7#32
  | 54 => 0x3D32AA3E#32
  | 55 => 0xBE7363EE#32
  | 56 => 0xBF000000#32
  | 57 => 0xBF38ECD8#32
  | 58 => 0xBF631324#32
  | 59 => 0xBF7B14BE#32
  | 60 => 0xBF7F069E#32
  | 61 => 0xBF6E9811#32
  | 62 => 0xBF4B1934#32
  | 63 => 0xBF176012#32
  | 64 => 0xBEAF1D44#32
  | 65 => 0xBD85F213#32
  | 66 => 0x3E5DA259#32
  | 67 => 0x3EF64429#32
  | 68 => 0x3F3504F3#32
  | 69 => 0x3F60712A#32
  | 70 => 0x3F79EE89#32
  | 71 => 0x3F7F73AF#32
  | 72 => 0x3F708FB2#32
  | 73 => 0x3F4E7327#32
  | 74 => 0x3F1BD7CA#32
  | 75 => 0x3EB9917B#32
  | 76 => 0x3DB27EB6#32
  | 77 => 0xBE47C5C2#32
  | 78 => 0xBEEC6A50#32
  | 79 => 0xBF310700#32
  | 80 => 0xBF5DB3D7#32
  | 81 => 0xBF78A9E0#32
  | 82 => 0xBF7FC1A0#32
  | 83 => 0xBF726A03#32
  | 84 => 0xBF51B3F3#32
  | 85 => 0xBF203C85#32
  | 86 => 0xBEC3EF15#32
  | 87 => 0xBDDEF599#32
  | 88 => 0x3E31D0D4#32
  | 89 => 0x3EE273AA#32
  | 90 => 0x3F2CF37B#32
  | 91 => 0x3F5ADB81#32
  | 92 => 0x3F7746EA#32
  | 93 => 0x3F7FF067#32
  | 94 => 0x3F7426CB#32
  | 95 => 0x3F54DB31#32
  | 96 => 0x3F248DBB#32
  | 97 => 0x3ECE34D0#32
  | 98 => 0x3E05A8A8#32
  | 99 => 0xBE1BC63C#32
  | 100 => 0xBED8616C#32
  | 101 => 0xBF28CAE3#32
  | 102 => 0xBF57E880#32
  | 103 => 0xBF75C5D4#32
  | 104 => 0xBF800000#32
  | 105 => 0xBF75C5D4#32
  | 106 => 0xBF57E880#32
  | 107 => 0xBF28CAE3#32
  | 108 => 0xBED8616C#32
  | 109 => 0xBE1BC63C#32
  | 110 => 0x3E05A8A8#32
  | 111 => 0x3ECE34D0#32
  | 112 => 0x3F248DBB#32
  | 113 => 0x3F54DB31#32
  | 114 => 0x3F7426CB#32
  | 115 => 0x3F7FF067#32
  | 116 => 0x3F7746EA#32
  | 117 => 0x3F5ADB81#32
  | 118 => 0x3F2CF37B#32
  | 119 => 0x3EE273AA#32
  | 120 => 0x3E31D0D4#32
  | 121 => 0xBDDEF599#32
  | 122 => 0xBEC3EF15#32
  | 123 => 0xBF203C85#32
  | 124 => 0xBF51B3F3#32
  | 125 => 0xBF726A03#32
  | 126 => 0xBF7FC1A0#32
  | 127 => 0xBF78A9E0#32
  | _ => 0#32

noncomputable abbrev lit1t0_30 (i : Nat) : BitVec 32 := match i % 128 with
  | 0 => 0xBF5DB3D7#32
  | 1 => 0xBF310700#32
  | 2 => 0xBEEC6A50#32
  | 3 => 0xBE47C5C2#32
  | 4 => 0x3DB27EB6#32
  | 5 => 0x3EB9917B#32
  | 6 => 0x3F1BD7CA#32
  | 7 => 0x3F4E7327#32
  | 8 => 0x3F708FB2#32
  | 9 => 0x3F7F73AF#32
  | 10 => 0x3F79EE89#32
  | 11 => 0x3F60712A#32
  | 12 => 0x3F3504F3#32
  | 13 => 0x3EF64429#32
  | 14 => 0x3E5DA259#32
  | 15 => 0xBD85F213#32
  | 16 => 0xBEAF1D44#32
  | 17 => 0xBF176012#32
  | 18 => 0xBF4B1934#32
  | 19 => 0xBF6E9811#32
  | 20 => 0xBF7F069E#32
  | 21 => 0xBF7B14BE#32
  | 22 => 0xBF631324#32
  | 23 => 0xBF38ECD8#32
  | 24 => 0xBF000000#32
  | 25 => 0xBE7363EE#32
  | 26 => 0x3D32AA3E#32
  | 27 => 0x3EA493B7#32
  | 28 => 0x3F12D5E8#32
  | 29 => 0x3F47A682#32
  | 30 => 0x3F6C835E#32
  | 31 => 0x3F7E7A7A#32
  | 32 => 0x3F7C1C5C#32
  | 33 => 0x3F659974#32
  | 34 => 0x3F3CBE35#32
  | 35 => 0x3F04CE53#32
  | 36 => 0x3E8483EE#32
  | 37 => 0xBCB2B521#32
  | 38 => 0xBE99F61C#32
  | 39 => 0xBF0E39DA#32
  | 40 => 0xBF441B7D#32
  | 41 => 0xBF6A51DA#32
  | 42 => 0xBF7DCF55#32
  | 43 => 0xBF7D0543#32
  | 44 => 0xBF6803CA#32
  | 45 => 0xBF407893#32
  | 46 => 0xBF098C78#32
  | 47 => 0xBE8F45C0#32
  | 48 => 0xA50D3132#32
  | 49 => 0x3E8F45C0#32
  | 50 => 0x3F098C78#32
  | 51 => 0x3F407893#32
  | 52 => 0x3F6803CA#32
  | 53 => 0x3F7D0543#32
  | 54 => 0x3F7DCF55#32
  | 55 => 0x3F6A51DA#32
  | 56 => 0x3F441B7D#32
  | 57 => 0x3F0E39DA#32
  | 58 => 0x3E99F61C#32
  | 59 => 0x3CB2B521#32
  | 60 => 0xBE8483EE#32
  | 61 => 0xBF04CE53#32
  | 62 => 0xBF3CBE35#32
  | 63 => 0xBF659974#32
  | 64 => 0xBF7C1C5C#32
  | 65 => 0xBF7E7A7A#32
  | 66 => 0xBF6C835E#32
  | 67 => 0xBF47A682#32
  | 68 => 0xBF12D5E8#32
  | 69 => 0xBEA493B7#32
  | 70 => 0xBD32AA3E#32
  | 71 => 0x3E7363EE#32
  | 72 => 0x3F000000#32
  | 73 => 0x3F38ECD8#32
  | 74 => 0x3F631324#32
  | 75 => 0x3F7B14BE#32
  | 76 => 0x3F7F069E#32
  | 77 => 0x3F6E9811#32
  | 78 => 0x3F4B1934#32
  | 79 => 0x3F176012#32
  | 80 => 0x3EAF1D44#32
  | 81 => 0x3D85F213#32
  | 82 => 0xBE5DA259#32
  | 83 => 0xBEF64429#32
  | 84 => 0xBF3504F3#32
  | 85 => 0xBF60712A#32
  | 86 => 0xBF79EE89#32
  | 87 => 0xBF7F73AF#32
  | 88 => 0xBF708FB2#32
  | 89 => 0xBF4E7327#32
  | 90 => 0xBF1BD7CA#32
  | 91 => 0xBEB9917B#32
  | 92 => 0xBDB27EB6#32
  | 93 => 0x3E47C5C2#32
  | 94 => 0x3EEC6A50#32
  | 95 => 0x3F310700#32
  | 96 => 0x3F5DB3D7#32
  | 97 => 0x3F78A9E0#32
  | 98 => 0x3F7FC1A0#32
  | 99 => 0x3F726A03#32
  | 100 => 0x3F51B3F3#32
  | 101 => 0x3F203C85#32
  | 102 => 0x3EC3EF15#32
  | 103 => 0x3DDEF599#32
  | 104 => 0xBE31D0D4#32
  | 105 => 0xBEE273AA#32
  | 106 => 0xBF2CF37B#32
  | 107 => 0xBF5ADB81#32
  | 108 => 0xBF7746EA#32
  | 109 => 0xBF7FF067#32
  | 110 => 0xBF7426CB#32
  | 111 => 0xBF54DB31#32
  | 112 => 0xBF248DBB#32
  | 113 => 0xBECE34D0#32
  | 114 => 0xBE05A8A8#32
  | 115 => 0x3E1BC63C#32
  | 116 => 0x3ED8616C#32
  | 117 => 0x3F28CAE3#32
  | 118 => 0x3F57E880#32
  | 119 => 0x3F75C5D4#32
  | 120 => 0x3F800000#32
  | 121 => 0x3F75C5D4#32
  | 122 => 0x3F57E880#32
  | 123 => 0x3F28CAE3#32
  | 124 => 0x3ED8616C#32
  | 125 => 0x3E1BC63C#32
  | 126 => 0xBE05A8A8#32
  | 127 => 0xBECE34D0#32
  | _ => 0#32

noncomputable abbrev lit1t0_31 (i : Nat) : BitVec 32 := match i % 128 with
  | 0 => 0xBF248DBB#32
  | 1 => 0xBF54DB31#32
  | 2 => 0xBF7426CB#32
  | 3 => 0xBF7FF067#32
  | 4 => 0xBF7746EA#32
  | 5 => 0xBF5ADB81#32
  | 6 => 0xBF2CF37B#32
  | 7 => 0xBEE273AA#32
  | 8 => 0xBE31D0D4#32
  | 9 => 0x3DDEF599#32
  | 10 => 0x3EC3EF15#32
  | 11 => 0x3F203C85#32
  | 12 => 0x3F51B3F3#32
  | 13 => 0x3F726A03#32
  | 14 => 0x3F7FC1A0#32
  | 15 => 0x3F78A9E0#32
  | 16 => 0x3F5DB3D7#32
  | 17 => 0x3F310700#32
  | 18 => 0x3EEC6A50#32
  | 19 => 0x3E47C5C2#32
  | 20 => 0xBDB27EB6#32
  | 21 => 0xBEB9917B#32
  | 22 => 0xBF1BD7CA#32
  | 23 => 0xBF4E7327#32
  | 24 => 0xBF708FB2#32
  | 25 => 0xBF7F73AF#32
  | 26 => 0xBF79EE89#32
  | 27 => 0xBF60712A#32
  | 28 => 0xBF3504F3#32
  | 29 => 0xBEF64429#32
  | 30 => 0xBE5DA259#32
  | 31 => 0x3D85F213#32
  | 32 => 0x3EAF1D44#32
  | 33 => 0x3F176012#32
  | 34 => 0x3F4B1934#32
  | 35 => 0x3F6E9811#32
  | 36 => 0x3F7F069E#32
  | 37 => 0x3F7B14BE#32
  | 38 => 0x3F631324#32
  | 39 => 0x3F38ECD8#32
  | 40 => 0x3F000000#32
  | 41 => 0x3E7363EE#32
  | 42 => 0xBD32AA3E#32
  | 43 => 0xBEA493B7#32
  | 44 => 0xBF12D5E8#32
  | 45 => 0xBF47A682#32
  | 46 => 0xBF6C835E#32
  | 47 => 0xBF7E7A7A#32
  | 48 => 0xBF7C1C5C#32
  | 49 => 0xBF659974#32
  | 50 => 0xBF3CBE35#32
  | 51 => 0xBF04CE53#32
  | 52 => 0xBE8483EE#32
  | 53 => 0x3CB2B521#32
  | 54 => 0x3E99F61C#32
  | 55 => 0x3F0E39DA#32
  | 56 => 0x3F441B7D#32
  | 57 => 0x3F6A51DA#32
  | 58 => 0x3F7DCF55#32
  | 59 => 0x3F7D0543#32
  | 60 => 0x3F6803CA#32
  | 61 => 0x3F407893#32
  | 62 => 0x3F098C78#32
  | 63 => 0x3E8F45C0#32
  | 64 => 0x80000000#32
  | 65 => 0xBE99F61C#32
  | 66 => 0xBF12D5E8#32
  | 67 => 0xBF4B1934#32
  | 68 => 0xBF708FB2#32
  | 69 => 0xBF7FC1A0#32
  | 70 => 0xBF7746EA#32
  | 71 => 0xBF57E880#32
  | 72 => 0xBF248DBB#32
  | 73 => 0xBEC3EF15#32
  | 74 => 0xBDB27EB6#32
  | 75 => 0x3E5DA259#32
  | 76 => 0x3F000000#32
  | 77 => 0x3F3CBE35#32
  | 78 => 0x3F6803CA#32
  | 79 => 0x3F7DCF55#32
  | 80 => 0x3F7C1C5C#32
  | 81 => 0x3F631324#32
  | 82 => 0x3F3504F3#32
  | 83 => 0x3EEC6A50#32
  | 84 => 0x3E31D0D4#32
  | 85 => 0xBE05A8A8#32
  | 86 => 0xBED8616C#32
  | 87 => 0xBF2CF37B#32
  | 88 => 0xBF5DB3D7#32
  | 89 => 0xBF79EE89#32
  | 90 => 0xBF7F069E#32
  | 91 => 0xBF6C835E#32
  | 92 => 0xBF441B7D#32
  | 93 => 0xBF098C78#32
  | 94 => 0xBE8483EE#32
  | 95 => 0x3D32AA3E#32
  | 96 => 0x3EAF1D44#32
  | 97 => 0x3F1BD7CA#32
  | 98 => 0x3F51B3F3#32
  | 99 => 0x3F7426CB#32
  | 100 => 0x3F800000#32
  | 101 => 0x3F7426CB#32
  | 102 => 0x3F51B3F3#32
  | 103 => 0x3F1BD7CA#32
  | 104 => 0x3EAF1D44#32
  | 105 => 0x3D32AA3E#32
  | 106 => 0xBE8483EE#32
  | 107 => 0xBF098C78#32
  | 108 => 0xBF441B7D#32
  | 109 => 0xBF6C835E#32
  | 110 => 0xBF7F069E#32
  | 111 => 0xBF79EE89#32
  | 112 => 0xBF5DB3D7#32
  | 113 => 0xBF2CF37B#32
  | 114 => 0xBED8616C#32
  | 115 => 0xBE05A8A8#32
  | 116 => 0x3E31D0D4#32
  | 117 => 0x3EEC6A50#32
  | 118 => 0x3F3504F3#32
  | 119 => 0x3F631324#32
  | 120 => 0x3F7C1C5C#32
  | 121 => 0x3F7DCF55#32
  | 122 => 0x3F6803CA#32
  | 123 => 0x3F3CBE35#32
  | 124 => 0x3F000000#32
  | 125 => 0x3E5DA259#32
  | 126 => 0xBDB27EB6#32
  | 127 => 0xBEC3EF15#32
  | _ => 0#32

noncomputable abbrev lit1t0_32 (i : Nat) : BitVec 32 := match i % 128 with
  | 0 => 0xBF248DBB#32
  | 1 => 0xBF57E880#32
  | 2 => 0xBF7746EA#32
  | 3 => 0xBF7FC1A0#32
  | 4 => 0xBF708FB2#32
  | 5 => 0xBF4B1934#32
  | 6 => 0xBF12D5E8#32
  | 7 => 0xBE99F61C#32
  | 8 => 0xA50D3132#32
  | 9 => 0x3E99F61C#32
  | 10 => 0x3F12D5E8#32
  | 11 => 0x3F4B1934#32
  | 12 => 0x3F708FB2#32
  | 13 => 0x3F7FC1A0#32
  | 14 => 0x3F7746EA#32
  | 15 => 0x3F57E880#32
  | 16 => 0x3F248DBB#32
  | 17 => 0x3EC3EF15#32
  | 18 => 0x3DB27EB6#32
  | 19 => 0xBE5DA259#32
  | 20 => 0xBF000000#32
  | 21 => 0xBF3CBE35#32
  | 22 => 0xBF6803CA#32
  | 23 => 0xBF7DCF55#32
  | 24 => 0xBF7C1C5C#32
  | 25 => 0xBF631324#32
  | 26 => 0xBF3504F3#32
  | 27 => 0xBEEC6A50#32
  | 28 => 0xBE31D0D4#32
  | 29 => 0x3E05A8A8#32
  | 30 => 0x3ED8616C#32
  | 31 => 0x3F2CF37B#32
  | 32 => 0x3F5DB3D7#32
  | 33 => 0x3F79EE89#32
  | 34 => 0x3F7F069E#32
  | 35 => 0x3F6C835E#32
  | 36 => 0x3F441B7D#32
  | 37 => 0x3F098C78#32
  | 38 => 0x3E8483EE#32
  | 39 => 0xBD32AA3E#32
  | 40 => 0xBEAF1D44#32
  | 41 => 0xBF1BD7CA#32
  | 42 => 0xBF51B3F3#32
  | 43 => 0xBF7426CB#32
  | 44 => 0xBF800000#32
  | 45 => 0xBF7426CB#32
  | 46 => 0xBF51B3F3#32
  | 47 => 0xBF1BD7CA#32
  | 48 => 0xBEAF1D44#32
  | 49 => 0xBD32AA3E#32
  | 50 => 0x3E8483EE#32
  | 51 => 0x3F098C78#32
  | 52 => 0x3F441B7D#32
  | 53 => 0x3F6C835E#32
  | 54 => 0x3F7F069E#32
  | 55 => 0x3F79EE89#32
  | 56 => 0x3F5DB3D7#32
  | 57 => 0x3F2CF37B#32
  | 58 => 0x3ED8616C#32
  | 59 => 0x3E05A8A8#32
  | 60 => 0xBE31D0D4#32
  | 61 => 0xBEEC6A50#32
  | 62 => 0xBF3504F3#32
  | 63 => 0xBF631324#32
  | 64 => 0xBF7C1C5C#32
  | 65 => 0xBF7DCF55#32
  | 66 => 0xBF6803CA#32
  | 67 => 0xBF3CBE35#32
  | 68 => 0xBF000000#32
  | 69 => 0xBE5DA259#32
  | 70 => 0x3DB27EB6#32
  | 71 => 0x3EC3EF15#32
  | 72 => 0x3F248DBB#32
  | 73 => 0x3F57E880#32
  | 74 => 0x3F7746EA#32
  | 75 => 0x3F7FC1A0#32
  | 76 => 0x3F708FB2#32
  | 77 => 0x3F4B1934#32
  | 78 => 0x3F12D5E8#32
  | 79 => 0x3E99F61C#32
  | 80 => 0x80000000#32
  | 81 => 0xBE99F61C#32
  | 82 => 0xBF12D5E8#32
  | 83 => 0xBF4B1934#32
  | 84 => 0xBF708FB2#32
  | 85 => 0xBF7FC1A0#32
  | 86 => 0xBF7746EA#32
  | 87 => 0xBF57E880#32
  | 88 => 0xBF248DBB#32
  | 89 => 0xBEC3EF15#32
  | 90 => 0xBDB27EB6#32
  | 91 => 0x3E5DA259#32
  | 92 => 0x3F000000#32
  | 93 => 0x3F3CBE35#32
  | 94 => 0x3F6803CA#32
  | 95 => 0x3F7DCF55#32
  | 96 => 0x3F7C1C5C#32
  | 97 => 0x3F631324#32
  | 98 => 0x3F3504F3#32
  | 99 => 0x3EEC6A50#32
  | 100 => 0x3E31D0D4#32
  | 101 => 0xBE05A8A8#32
  | 102 => 0xBED8616C#32
  | 103 => 0xBF2CF37B#32
  | 104 => 0xBF5DB3D7#32
  | 105 => 0xBF79EE89#32
  | 106 => 0xBF7F069E#32
  | 107 => 0xBF6C835E#32
  | 108 => 0xBF441B7D#32
  | 109 => 0xBF098C78#32
  | 110 => 0xBE8483EE#32
  | 111 => 0x3D32AA3E#32
  | 112 => 0x3EAF1D44#32
  | 113 => 0x3F1BD7CA#32
  | 114 => 0x3F51B3F3#32
  | 115 => 0x3F7426CB#32
  | 116 => 0x3F800000#32
  | 117 => 0x3F7426CB#32
  | 118 => 0x3F51B3F3#32
  | 119 => 0x3F1BD7CA#32
  | 120 => 0x3EAF1D44#32
  | 121 => 0x3D32AA3E#32
  | 122 => 0xBE8483EE#32
  | 123 => 0xBF098C78#32
  | 124 => 0xBF441B7D#32
  | 125 => 0xBF6C835E#32
  | 126 => 0xBF7F069E#32
  | 127 => 0xBF79EE89#32
  | _ => 0#32

noncomputable abbrev lit1t0_33 (i : Nat) : BitVec 32 := match i % 128 with
  | 0 => 0xBF5DB3D7#32
  | 1 => 0xBF2CF37B#32
  | 2 => 0xBED8616C#32
  | 3 => 0xBE05A8A8#32
  | 4 => 0x3E31D0D4#32
  | 5 => 0x3EEC6A50#32
  | 6 => 0x3F3504F3#32
  | 7 => 0x3F631324#32
  | 8 => 0x3F7C1C5C#32
  | 9 => 0x3F7DCF55#32
  | 10 => 0x3F6803CA#32
  | 11 => 0x3F3CBE35#32
  | 12 => 0x3F000000#32
  | 13 => 0x3E5DA259#32
  | 14 => 0xBDB27EB6#32
  | 15 => 0xBEC3EF15#32
  | 16 => 0xBF248DBB#32
  | 17 => 0xBF57E880#32
  | 18 => 0xBF7746EA#32
  | 19 => 0xBF7FC1A0#32
  | 20 => 0xBF708FB2#32
  | 21 => 0xBF4B1934#32
  | 22 => 0xBF12D5E8#32
  | 23 => 0xBE99F61C#32
  | 24 => 0xA50D3132#32
  | 25 => 0x3E99F61C#32
  | 26 => 0x3F12D5E8#32
  | 27 => 0x3F4B1934#32
  | 28 => 0x3F708FB2#32
  | 29 => 0x3F7FC1A0#32
  | 30 => 0x3F7746EA#32
  | 31 => 0x3F57E880#32
  | 32 => 0x3F248DBB#32
  | 33 => 0x3EC3EF15#32
  | 34 => 0x3DB27EB6#32
  | 35 => 0xBE5DA259#32
  | 36 => 0xBF000000#32
  | 37 => 0xBF3CBE35#32
  | 38 => 0xBF6803CA#32
  | 39 => 0xBF7DCF55#32
  | 40 => 0xBF7C1C5C#32
  | 41 => 0xBF631324#32
  | 42 => 0xBF3504F3#32
  | 43 => 0xBEEC6A50#32
  | 44 => 0xBE31D0D4#32
  | 45 => 0x3E05A8A8#32
  | 46 => 0x3ED8616C#32
  | 47 => 0x3F2CF37B#32
  | 48 => 0x3F5DB3D7#32
  | 49 => 0x3F79EE89#32
  | 50 => 0x3F7F069E#32
  | 51 => 0x3F6C835E#32
  | 52 => 0x3F441B7D#32
  | 53 => 0x3F098C78#32
  | 54 => 0x3E8483EE#32
  | 55 => 0xBD32AA3E#32
  | 56 => 0xBEAF1D44#32
  | 57 => 0xBF1BD7CA#32
  | 58 => 0xBF51B3F3#32
  | 59 => 0xBF7426CB#32
  | 60 => 0xBF800000#32
  | 61 => 0xBF7426CB#32
  | 62 => 0xBF51B3F3#32
  | 63 => 0xBF1BD7CA#32
  | 64 => 0xBEAF1D44#32
  | 65 => 0xBD32AA3E#32
  | 66 => 0x3E8483EE#32
  | 67 => 0x3F098C78#32
  | 68 => 0x3F441B7D#32
  | 69 => 0x3F6C835E#32
  | 70 => 0x3F7F069E#32
  | 71 => 0x3F79EE89#32
  | 72 => 0x3F5DB3D7#32
  | 73 => 0x3F2CF37B#32
  | 74 => 0x3ED8616C#32
  | 75 => 0x3E05A8A8#32
  | 76 => 0xBE31D0D4#32
  | 77 => 0xBEEC6A50#32
  | 78 => 0xBF3504F3#32
  | 79 => 0xBF631324#32
  | 80 => 0xBF7C1C5C#32
  | 81 => 0xBF7DCF55#32
  | 82 => 0xBF6803CA#32
  | 83 => 0xBF3CBE35#32
  | 84 => 0xBF000000#32
  | 85 => 0xBE5DA259#32
  | 86 => 0x3DB27EB6#32
  | 87 => 0x3EC3EF15#32
  | 88 => 0x3F248DBB#32
  | 89 => 0x3F57E880#32
  | 90 => 0x3F7746EA#32
  | 91 => 0x3F7FC1A0#32
  | 92 => 0x3F708FB2#32
  | 93 => 0x3F4B1934#32
  | 94 => 0x3F12D5E8#32
  | 95 => 0x3E99F61C#32
  | 96 => 0x80000000#32
  | 97 => 0xBEA493B7#32
  | 98 => 0xBF1BD7CA#32
  | 99 => 0xBF54DB31#32
  | 100 => 0xBF7746EA#32
  | 101 => 0xBF7F73AF#32
  | 102 => 0xBF6C835E#32
  | 103 => 0xBF407893#32
  | 104 => 0xBF000000#32
  | 105 => 0xBE47C5C2#32
  | 106 => 0x3E05A8A8#32
  | 107 => 0x3EE273AA#32
  | 108 => 0x3F3504F3#32
  | 109 => 0x3F659974#32
  | 110 => 0x3F7DCF55#32
  | 111 => 0x3F7B14BE#32
  | 112 => 0x3F5DB3D7#32
  | 113 => 0x3F28CAE3#32
  | 114 => 0x3EC3EF15#32
  | 115 => 0x3D85F213#32
  | 116 => 0xBE8483EE#32
  | 117 => 0xBF0E39DA#32
  | 118 => 0xBF4B1934#32
  | 119 => 0xBF726A03#32
  | 120 => 0xBF800000#32
  | 121 => 0xBF726A03#32
  | 122 => 0xBF4B1934#32
  | 123 => 0xBF0E39DA#32
  | 124 => 0xBE8483EE#32
  | 125 => 0x3D85F213#32
  | 126 => 0x3EC3EF15#32
  | 127 => 0x3F28CAE3#32
  | _ => 0#32

noncomputable abbrev lit1t0_34 (i : Nat) : BitVec 32 := match i % 128 with
  | 0 => 0x3F5DB3D7#32
  | 1 => 0x3F7B14BE#32
  | 2 => 0x3F7DCF55#32
  | 3 => 0x3F659974#32
  | 4 => 0x3F3504F3#32
  | 5 => 0x3EE273AA#32
  | 6 => 0x3E05A8A8#32
  | 7 => 0xBE47C5C2#32
  | 8 => 0xBF000000#32
  | 9 => 0xBF407893#32
  | 10 => 0xBF6C835E#32
  | 11 => 0xBF7F73AF#32
  | 12 => 0xBF7746EA#32
  | 13 => 0xBF54DB31#32
  | 14 => 0xBF1BD7CA#32
  | 15 => 0xBEA493B7#32
  | 16 => 0xA50D3132#32
  | 17 => 0x3EA493B7#32
  | 18 => 0x3F1BD7CA#32
  | 19 => 0x3F54DB31#32
  | 20 => 0x3F7746EA#32
  | 21 => 0x3F7F73AF#32
  | 22 => 0x3F6C835E#32
  | 23 => 0x3F407893#32
  | 24 => 0x3F000000#32
  | 25 => 0x3E47C5C2#32
  | 26 => 0xBE05A8A8#32
  | 27 => 0xBEE273AA#32
  | 28 => 0xBF3504F3#32
  | 29 => 0xBF659974#32
  | 30 => 0xBF7DCF55#32
  | 31 => 0xBF7B14BE#32
  | 32 => 0xBF5DB3D7#32
  | 33 => 0xBF28CAE3#32
  | 34 => 0xBEC3EF15#32
  | 35 => 0xBD85F213#32
  | 36 => 0x3E8483EE#32
  | 37 => 0x3F0E39DA#32
  | 38 => 0x3F4B1934#32
  | 39 => 0x3F726A03#32
  | 40 => 0x3F800000#32
  | 41 => 0x3F726A03#32
  | 42 => 0x3F4B1934#32
  | 43 => 0x3F0E39DA#32
  | 44 => 0x3E8483EE#32
  | 45 => 0xBD85F213#32
  | 46 => 0xBEC3EF15#32
  | 47 => 0xBF28CAE3#32
  | 48 => 0xBF5DB3D7#32
  | 49 => 0xBF7B14BE#32
  | 50 => 0xBF7DCF55#32
  | 51 => 0xBF659974#32
  | 52 => 0xBF3504F3#32
  | 53 => 0xBEE273AA#32
  | 54 => 0xBE05A8A8#32
  | 55 => 0x3E47C5C2#32
  | 56 => 0x3F000000#32
  | 57 => 0x3F407893#32
  | 58 => 0x3F6C835E#32
  | 59 => 0x3F7F73AF#32
  | 60 => 0x3F7746EA#32
  | 61 => 0x3F54DB31#32
  | 62 => 0x3F1BD7CA#32
  | 63 => 0x3EA493B7#32
  | 64 => 0x80000000#32
  | 65 => 0xBEA493B7#32
  | 66 => 0xBF1BD7CA#32
  | 67 => 0xBF54DB31#32
  | 68 => 0xBF7746EA#32
  | 69 => 0xBF7F73AF#32
  | 70 => 0xBF6C835E#32
  | 71 => 0xBF407893#32
  | 72 => 0xBF000000#32
  | 73 => 0xBE47C5C2#32
  | 74 => 0x3E05A8A8#32
  | 75 => 0x3EE273AA#32
  | 76 => 0x3F3504F3#32
  | 77 => 0x3F659974#32
  | 78 => 0x3F7DCF55#32
  | 79 => 0x3F7B14BE#32
  | 80 => 0x3F5DB3D7#32
  | 81 => 0x3F28CAE3#32
  | 82 => 0x3EC3EF15#32
  | 83 => 0x3D85F213#32
  | 84 => 0xBE8483EE#32
  | 85 => 0xBF0E39DA#32
  | 86 => 0xBF4B1934#32
  | 87 => 0xBF726A03#32
  | 88 => 0xBF800000#32
  | 89 => 0xBF726A03#32
  | 90 => 0xBF4B1934#32
  | 91 => 0xBF0E39DA#32
  | 92 => 0xBE8483EE#32
  | 93 => 0x3D85F213#32
  | 94 => 0x3EC3EF15#32
  | 95 => 0x3F28CAE3#32
  | 96 => 0x3F5DB3D7#32
  | 97 => 0x3F7B14BE#32
  | 98 => 0x3F7DCF55#32
  | 99 => 0x3F659974#32
  | 100 => 0x3F3504F3#32
  | 101 => 0x3EE273AA#32
  | 102 => 0x3E05A8A8#32
  | 103 => 0xBE47C5C2#32
  | 104 => 0xBF000000#32
  | 105 => 0xBF407893#32
  | 106 => 0xBF6C835E#32
  | 107 => 0xBF7F73AF#32
  | 108 => 0xBF7746EA#32
  | 109 => 0xBF54DB31#32
  | 110 => 0xBF1BD7CA#32
  | 111 => 0xBEA493B7#32
  | 112 => 0xA50D3132#32
  | 113 => 0x3EA493B7#32
  | 114 => 0x3F1BD7CA#32
  | 115 => 0x3F54DB31#32
  | 116 => 0x3F7746EA#32
  | 117 => 0x3F7F73AF#32
  | 118 => 0x3F6C835E#32
  | 119 => 0x3F407893#32
  | 120 => 0x3F000000#32
  | 121 => 0x3E47C5C2#32
  | 122 => 0xBE05A8A8#32
  | 123 => 0xBEE273AA#32
  | 124 => 0xBF3504F3#32
  | 125 => 0xBF659974#32
  | 126 => 0xBF7DCF55#32
  | 127 => 0xBF7B14BE#32
  | _ => 0#32

noncomputable abbrev lit1t0_35 (i : Nat) : BitVec 32 := match i % 128 with
  | 0 => 0xBF5DB3D7#32
  | 1 => 0xBF28CAE3#32
  | 2 => 0xBEC3EF15#32
  | 3 => 0xBD85F213#32
  | 4 => 0x3E8483EE#32
  | 5 => 0x3F0E39DA#32
  | 6 => 0x3F4B1934#32
  | 7 => 0x3F726A03#32
  | 8 => 0x3F800000#32
  | 9 => 0x3F726A03#32
  | 10 => 0x3F4B1934#32
  | 11 => 0x3F0E39DA#32
  | 12 => 0x3E8483EE#32
  | 13 => 0xBD85F213#32
  | 14 => 0xBEC3EF15#32
  | 15 => 0xBF28CAE3#32
  | 16 => 0xBF5DB3D7#32
  | 17 => 0xBF7B14BE#32
  | 18 => 0xBF7DCF55#32
  | 19 => 0xBF659974#32
  | 20 => 0xBF3504F3#32
  | 21 => 0xBEE273AA#32
  | 22 => 0xBE05A8A8#32
  | 23 => 0x3E47C5C2#32
  | 24 => 0x3F000000#32
  | 25 => 0x3F407893#32
  | 26 => 0x3F6C835E#32
  | 27 => 0x3F7F73AF#32
  | 28 => 0x3F7746EA#32
  | 29 => 0x3F54DB31#32
  | 30 => 0x3F1BD7CA#32
  | 31 => 0x3EA493B7#32
  | 32 => 0x80000000#32
  | 33 => 0xBEA493B7#32
  | 34 => 0xBF1BD7CA#32
  | 35 => 0xBF54DB31#32
  | 36 => 0xBF7746EA#32
  | 37 => 0xBF7F73AF#32
  | 38 => 0xBF6C835E#32
  | 39 => 0xBF407893#32
  | 40 => 0xBF000000#32
  | 41 => 0xBE47C5C2#32
  | 42 => 0x3E05A8A8#32
  | 43 => 0x3EE273AA#32
  | 44 => 0x3F3504F3#32
  | 45 => 0x3F659974#32
  | 46 => 0x3F7DCF55#32
  | 47 => 0x3F7B14BE#32
  | 48 => 0x3F5DB3D7#32
  | 49 => 0x3F28CAE3#32
  | 50 => 0x3EC3EF15#32
  | 51 => 0x3D85F213#32
  | 52 => 0xBE8483EE#32
  | 53 => 0xBF0E39DA#32
  | 54 => 0xBF4B1934#32
  | 55 => 0xBF726A03#32
  | 56 => 0xBF800000#32
  | 57 => 0xBF726A03#32
  | 58 => 0xBF4B1934#32
  | 59 => 0xBF0E39DA#32
  | 60 => 0xBE8483EE#32
  | 61 => 0x3D85F213#32
  | 62 => 0x3EC3EF15#32
  | 63 => 0x3F28CAE3#32
  | 64 => 0x3F5DB3D7#32
  | 65 => 0x3F7B14BE#32
  | 66 => 0x3F7DCF55#32
  | 67 => 0x3F659974#32
  | 68 => 0x3F3504F3#32
  | 69 => 0x3EE273AA#32
  | 70 => 0x3E05A8A8#32
  | 71 => 0xBE47C5C2#32
  | 72 => 0xBF000000#32
  | 73 => 0xBF407893#32
  | 74 => 0xBF6C835E#32
  | 75 => 0xBF7F73AF#32
  | 76 => 0xBF7746EA#32
  | 77 => 0xBF54DB31#32
  | 78 => 0xBF1BD7CA#32
  | 79 => 0xBEA493B7#32
  | 80 => 0xA50D3132#32
  | 81 => 0x3EA493B7#32
  | 82 => 0x3F1BD7CA#32
  | 83 => 0x3F54DB31#32
  | 84 => 0x3F7746EA#32
  | 85 => 0x3F7F73AF#32
  | 86 => 0x3F6C835E#32
  | 87 => 0x3F407893#32
  | 88 => 0x3F000000#32
  | 89 => 0x3E47C5C2#32
  | 90 => 0xBE05A8A8#32
  | 91 => 0xBEE273AA#32
  | 92 => 0xBF3504F3#32
  | 93 => 0xBF659974#32
  | 94 => 0xBF7DCF55#32
  | 95 => 0xBF7B14BE#32
  | 96 => 0xBF5DB3D7#32
  | 97 => 0xBF28CAE3#32
  | 98 => 0xBEC3EF15#32
  | 99 => 0xBD85F213#32
  | 100 => 0x3E8483EE#32
  | 101 => 0x3F0E39DA#32
  | 102 => 0x3F4B1934#32
  | 103 => 0x3F726A03#32
  | 104 => 0x3F800000#32
  | 105 => 0x3F726A03#32
  | 106 => 0x3F4B1934#32
  | 107 => 0x3F0E39DA#32
  | 108 => 0x3E8483EE#32
  | 109 => 0xBD85F213#32
  | 110 => 0xBEC3EF15#32
  | 111 => 0xBF28CAE3#32
  | 112 => 0xBF5DB3D7#32
  | 113 => 0xBF7B14BE#32
  | 114 => 0xBF7DCF55#32
  | 115 => 0xBF659974#32
  | 116 => 0xBF3504F3#32
  | 117 => 0xBEE273AA#32
  | 118 => 0xBE05A8A8#32
  | 119 => 0x3E47C5C2#32
  | 120 => 0x3F000000#32
  | 121 => 0x3F407893#32
  | 122 => 0x3F6C835E#32
  | 123 => 0x3F7F73AF#32
  | 124 => 0x3F7746EA#32
  | 125 => 0x3F54DB31#32
  | 126 => 0x3F1BD7CA#32
  | 127 => 0x3EA493B7#32
  | _ => 0#32

noncomputable abbrev lit1t0_36 (i : Nat) : BitVec 32 := match i % 128 with
  | 0 => 0x80000000#32
  | 1 => 0xBEAF1D44#32
  | 2 => 0xBF248DBB#32
  | 3 => 0xBF5DB3D7#32
  | 4 => 0xBF7C1C5C#32
  | 5 => 0xBF7C1C5C#32
  | 6 => 0xBF5DB3D7#32
  | 7 => 0xBF248DBB#32
  | 8 => 0xBEAF1D44#32
  | 9 => 0xA50D3132#32
  | 10 => 0x3EAF1D44#32
  | 11 => 0x3F248DBB#32
  | 12 => 0x3F5DB3D7#32
  | 13 => 0x3F7C1C5C#32
  | 14 => 0x3F7C1C5C#32
  | 15 => 0x3F5DB3D7#32
  | 16 => 0x3F248DBB#32
  | 17 => 0x3EAF1D44#32
  | 18 => 0x80000000#32
  | 19 => 0xBEAF1D44#32
  | 20 => 0xBF248DBB#32
  | 21 => 0xBF5DB3D7#32
  | 22 => 0xBF7C1C5C#32
  | 23 => 0xBF7C1C5C#32
  | 24 => 0xBF5DB3D7#32
  | 25 => 0xBF248DBB#32
  | 26 => 0xBEAF1D44#32
  | 27 => 0xA50D3132#32
  | 28 => 0x3EAF1D44#32
  | 29 => 0x3F248DBB#32
  | 30 => 0x3F5DB3D7#32
  | 31 => 0x3F7C1C5C#32
  | 32 => 0x3F7C1C5C#32
  | 33 => 0x3F5DB3D7#32
  | 34 => 0x3F248DBB#32
  | 35 => 0x3EAF1D44#32
  | 36 => 0x80000000#32
  | 37 => 0xBEAF1D44#32
  | 38 => 0xBF248DBB#32
  | 39 => 0xBF5DB3D7#32
  | 40 => 0xBF7C1C5C#32
  | 41 => 0xBF7C1C5C#32
  | 42 => 0xBF5DB3D7#32
  | 43 => 0xBF248DBB#32
  | 44 => 0xBEAF1D44#32
  | 45 => 0xA50D3132#32
  | 46 => 0x3EAF1D44#32
  | 47 => 0x3F248DBB#32
  | 48 => 0x3F5DB3D7#32
  | 49 => 0x3F7C1C5C#32
  | 50 => 0x3F7C1C5C#32
  | 51 => 0x3F5DB3D7#32
  | 52 => 0x3F248DBB#32
  | 53 => 0x3EAF1D44#32
  | 54 => 0x80000000#32
  | 55 => 0xBEAF1D44#32
  | 56 => 0xBF248DBB#32
  | 57 => 0xBF5DB3D7#32
  | 58 => 0xBF7C1C5C#32
  | 59 => 0xBF7C1C5C#32
  | 60 => 0xBF5DB3D7#32
  | 61 => 0xBF248DBB#32
  | 62 => 0xBEAF1D44#32
  | 63 => 0xA50D3132#32
  | 64 => 0x3EAF1D44#32
  | 65 => 0x3F248DBB#32
  | 66 => 0x3F5DB3D7#32
  | 67 => 0x3F7C1C5C#32
  | 68 => 0x3F7C1C5C#32
  | 69 => 0x3F5DB3D7#32
  | 70 => 0x3F248DBB#32
  | 71 => 0x3EAF1D44#32
  | 72 => 0x80000000#32
  | 73 => 0xBEAF1D44#32
  | 74 => 0xBF248DBB#32
  | 75 => 0xBF5DB3D7#32
  | 76 => 0xBF7C1C5C#32
  | 77 => 0xBF7C1C5C#32
  | 78 => 0xBF5DB3D7#32
  | 79 => 0xBF248DBB#32
  | 80 => 0xBEAF1D44#32
  | 81 => 0xA50D3132#32
  | 82 => 0x3EAF1D44#32
  | 83 => 0x3F248DBB#32
  | 84 => 0x3F5DB3D7#32
  | 85 => 0x3F7C1C5C#32
  | 86 => 0x3F7C1C5C#32
  | 87 => 0x3F5DB3D7#32
  | 88 => 0x3F248DBB#32
  | 89 => 0x3EAF1D44#32
  | 90 => 0x80000000#32
  | 91 => 0xBEAF1D44#32
  | 92 => 0xBF248DBB#32
  | 93 => 0xBF5DB3D7#32
  | 94 => 0xBF7C1C5C#32
  | 95 => 0xBF7C1C5C#32
  | 96 => 0xBF5DB3D7#32
  | 97 => 0xBF248DBB#32
  | 98 => 0xBEAF1D44#32
  | 99 => 0xA50D3132#32
  | 100 => 0x3EAF1D44#32
  | 101 => 0x3F248DBB#32
  | 102 => 0x3F5DB3D7#32
  | 103 => 0x3F7C1C5C#32
  | 104 => 0x3F7C1C5C#32
  | 105 => 0x3F5DB3D7#32
  | 106 => 0x3F248DBB#32
  | 107 => 0x3EAF1D44#32
  | 108 => 0x80000000#32
  | 109 => 0xBEAF1D44#32
  | 110 => 0xBF248DBB#32
  | 111 => 0xBF5DB3D7#32
  | 112 => 0xBF7C1C5C#32
  | 113 => 0xBF7C1C5C#32
  | 114 => 0xBF5DB3D7#32
  | 115 => 0xBF248DBB#32
  | 116 => 0xBEAF1D44#32
  | 117 => 0xA50D3132#32
  | 118 => 0x3EAF1D44#32
  | 119 => 0x3F248DBB#32
  | 120 => 0x3F5DB3D7#32
  | 121 => 0x3F7C1C5C#32
  | 122 => 0x3F7C1C5C#32
  | 123 => 0x3F5DB3D7#32
  | 124 => 0x3F248DBB#32
  | 125 => 0x3EAF1D44#32
  | 126 => 0x80000000#32
  | 127 => 0xBEAF1D44#32
  | _ => 0#32

noncomputable abbrev lit1t0_37 (i : Nat) : BitVec 32 := match i % 128 with
  | 0 => 0xBF248DBB#32
  | 1 => 0xBF5DB3D7#32
  | 2 => 0xBF7C1C5C#32
  | 3 => 0xBF7C1C5C#32
  | 4 => 0xBF5DB3D7#32
  | 5 => 0xBF248DBB#32
  | 6 => 0xBEAF1D44#32
  | 7 => 0xA50D3132#32
  | 8 => 0x3EAF1D44#32
  | 9 => 0x3F248DBB#32
  | 10 => 0x3F5DB3D7#32
  | 11 => 0x3F7C1C5C#32
  | 12 => 0x3F7C1C5C#32
  | 13 => 0x3F5DB3D7#32
  | 14 => 0x3F248DBB#32
  | 15 => 0x3EAF1D44#32
  | 16 => 0x80000000#32
  | 17 => 0xBEAF1D44#32
  | 18 => 0xBF248DBB#32
  | 19 => 0xBF5DB3D7#32
  | 20 => 0xBF7C1C5C#32
  | 21 => 0xBF7C1C5C#32
  | 22 => 0xBF5DB3D7#32
  | 23 => 0xBF248DBB#32
  | 24 => 0xBEAF1D44#32
  | 25 => 0xA50D3132#32
  | 26 => 0x3EAF1D44#32
  | 27 => 0x3F248DBB#32
  | 28 => 0x3F5DB3D7#32
  | 29 => 0x3F7C1C5C#32
  | 30 => 0x3F7C1C5C#32
  | 31 => 0x3F5DB3D7#32
  | 32 => 0x3F248DBB#32
  | 33 => 0x3EAF1D44#32
  | 34 => 0x80000000#32
  | 35 => 0xBEAF1D44#32
  | 36 => 0xBF248DBB#32
  | 37 => 0xBF5DB3D7#32
  | 38 => 0xBF7C1C5C#32
  | 39 => 0xBF7C1C5C#32
  | 40 => 0xBF5DB3D7#32
  | 41 => 0xBF248DBB#32
  | 42 => 0xBEAF1D44#32
  | 43 => 0xA50D3132#32
  | 44 => 0x3EAF1D44#32
  | 45 => 0x3F248DBB#32
  | 46 => 0x3F5DB3D7#32
  | 47 => 0x3F7C1C5C#32
  | 48 => 0x3F7C1C5C#32
  | 49 => 0x3F5DB3D7#32
  | 50 => 0x3F248DBB#32
  | 51 => 0x3EAF1D44#32
  | 52 => 0x80000000#32
  | 53 => 0xBEAF1D44#32
  | 54 => 0xBF248DBB#32
  | 55 => 0xBF5DB3D7#32
  | 56 => 0xBF7C1C5C#32
  | 57 => 0xBF7C1C5C#32
  | 58 => 0xBF5DB3D7#32
  | 59 => 0xBF248DBB#32
  | 60 => 0xBEAF1D44#32
  | 61 => 0xA50D3132#32
  | 62 => 0x3EAF1D44#32
  | 63 => 0x3F248DBB#32
  | 64 => 0x3F5DB3D7#32
  | 65 => 0x3F7C1C5C#32
  | 66 => 0x3F7C1C5C#32
  | 67 => 0x3F5DB3D7#32
  | 68 => 0x3F248DBB#32
  | 69 => 0x3EAF1D44#32
  | 70 => 0x80000000#32
  | 71 => 0xBEAF1D44#32
  | 72 => 0xBF248DBB#32
  | 73 => 0xBF5DB3D7#32
  | 74 => 0xBF7C1C5C#32
  | 75 => 0xBF7C1C5C#32
  | 76 => 0xBF5DB3D7#32
  | 77 => 0xBF248DBB#32
  | 78 => 0xBEAF1D44#32
  | 79 => 0xA50D3132#32
  | 80 => 0x3EAF1D44#32
  | 81 => 0x3F248DBB#32
  | 82 => 0x3F5DB3D7#32
  | 83 => 0x3F7C1C5C#32
  | 84 => 0x3F7C1C5C#32
  | 85 => 0x3F5DB3D7#32
  | 86 => 0x3F248DBB#32
  | 87 => 0x3EAF1D44#32
  | 88 => 0x80000000#32
  | 89 => 0xBEAF1D44#32
  | 90 => 0xBF248DBB#32
  | 91 => 0xBF5DB3D7#32
  | 92 => 0xBF7C1C5C#32
  | 93 => 0xBF7C1C5C#32
  | 94 => 0xBF5DB3D7#32
  | 95 => 0xBF248DBB#32
  | 96 => 0xBEAF1D44#32
  | 97 => 0xA50D3132#32
  | 98 => 0x3EAF1D44#32
  | 99 => 0x3F248DBB#32
  | 100 => 0x3F5DB3D7#32
  | 101 => 0x3F7C1C5C#32
  | 102 => 0x3F7C1C5C#32
  | 103 => 0x3F5DB3D7#32
  | 104 => 0x3F248DBB#32
  | 105 => 0x3EAF1D44#32
  | 106 => 0x80000000#32
  | 107 => 0xBEAF1D44#32
  | 108 => 0xBF248DBB#32
  | 109 => 0xBF5DB3D7#32
  | 110 => 0xBF7C1C5C#32
  | 111 => 0xBF7C1C5C#32
  | 112 => 0xBF5DB3D7#32
  | 113 => 0xBF248DBB#32
  | 114 => 0xBEAF1D44#32
  | 115 => 0xA50D3132#32
  | 116 => 0x3EAF1D44#32
  | 117 => 0x3F248DBB#32
  | 118 => 0x3F5DB3D7#32
  | 119 => 0x3F7C1C5C#32
  | 120 => 0x3F7C1C5C#32
  | 121 => 0x3F5DB3D7#32
  | 122 => 0x3F248DBB#32
  | 123 => 0x3EAF1D44#32
  | 124 => 0x80000000#32
  | 125 => 0xBEAF1D44#32
  | 126 => 0xBF248DBB#32
  | 127 => 0xBF5DB3D7#32
  | _ => 0#32

noncomputable abbrev lit1t0_38 (i : Nat) : BitVec 32 := match i % 128 with
  | 0 => 0xBF7C1C5C#32
  | 1 => 0xBF7C1C5C#32
  | 2 => 0xBF5DB3D7#32
  | 3 => 0xBF248DBB#32
  | 4 => 0xBEAF1D44#32
  | 5 => 0xA50D3132#32
  | 6 => 0x3EAF1D44#32
  | 7 => 0x3F248DBB#32
  | 8 => 0x3F5DB3D7#32
  | 9 => 0x3F7C1C5C#32
  | 10 => 0x3F7C1C5C#32
  | 11 => 0x3F5DB3D7#32
  | 12 => 0x3F248DBB#32
  | 13 => 0x3EAF1D44#32
  | 14 => 0x80000000#32
  | 15 => 0xBEAF1D44#32
  | 16 => 0xBF248DBB#32
  | 17 => 0xBF5DB3D7#32
  | 18 => 0xBF7C1C5C#32
  | 19 => 0xBF7C1C5C#32
  | 20 => 0xBF5DB3D7#32
  | 21 => 0xBF248DBB#32
  | 22 => 0xBEAF1D44#32
  | 23 => 0xA50D3132#32
  | 24 => 0x3EAF1D44#32
  | 25 => 0x3F248DBB#32
  | 26 => 0x3F5DB3D7#32
  | 27 => 0x3F7C1C5C#32
  | 28 => 0x3F7C1C5C#32
  | 29 => 0x3F5DB3D7#32
  | 30 => 0x3F248DBB#32
  | 31 => 0x3EAF1D44#32
  | 32 => 0x80000000#32
  | 33 => 0xBEB9917B#32
  | 34 => 0xBF2CF37B#32
  | 35 => 0xBF659974#32
  | 36 => 0xBF7F069E#32
  | 37 => 0xBF75C5D4#32
  | 38 => 0xBF4B1934#32
  | 39 => 0xBF04CE53#32
  | 40 => 0xBE31D0D4#32
  | 41 => 0x3E47C5C2#32
  | 42 => 0x3F098C78#32
  | 43 => 0x3F4E7327#32
  | 44 => 0x3F7746EA#32
  | 45 => 0x3F7E7A7A#32
  | 46 => 0x3F631324#32
  | 47 => 0x3F28CAE3#32
  | 48 => 0x3EAF1D44#32
  | 49 => 0xBCB2B521#32
  | 50 => 0xBEC3EF15#32
  | 51 => 0xBF310700#32
  | 52 => 0xBF6803CA#32
  | 53 => 0xBF7F73AF#32
  | 54 => 0xBF7426CB#32
  | 55 => 0xBF47A682#32
  | 56 => 0xBF000000#32
  | 57 => 0xBE1BC63C#32
  | 58 => 0x3E5DA259#32
  | 59 => 0x3F0E39DA#32
  | 60 => 0x3F51B3F3#32
  | 61 => 0x3F78A9E0#32
  | 62 => 0x3F7DCF55#32
  | 63 => 0x3F60712A#32
  | 64 => 0x3F248DBB#32
  | 65 => 0x3EA493B7#32
  | 66 => 0xBD32AA3E#32
  | 67 => 0xBECE34D0#32
  | 68 => 0xBF3504F3#32
  | 69 => 0xBF6A51DA#32
  | 70 => 0xBF7FC1A0#32
  | 71 => 0xBF726A03#32
  | 72 => 0xBF441B7D#32
  | 73 => 0xBEF64429#32
  | 74 => 0xBE05A8A8#32
  | 75 => 0x3E7363EE#32
  | 76 => 0x3F12D5E8#32
  | 77 => 0x3F54DB31#32
  | 78 => 0x3F79EE89#32
  | 79 => 0x3F7D0543#32
  | 80 => 0x3F5DB3D7#32
  | 81 => 0x3F203C85#32
  | 82 => 0x3E99F61C#32
  | 83 => 0xBD85F213#32
  | 84 => 0xBED8616C#32
  | 85 => 0xBF38ECD8#32
  | 86 => 0xBF6C835E#32
  | 87 => 0xBF7FF067#32
  | 88 => 0xBF708FB2#32
  | 89 => 0xBF407893#32
  | 90 => 0xBEEC6A50#32
  | 91 => 0xBDDEF599#32
  | 92 => 0x3E8483EE#32
  | 93 => 0x3F176012#32
  | 94 => 0x3F57E880#32
  | 95 => 0x3F7B14BE#32
  | 96 => 0x3F7C1C5C#32
  | 97 => 0x3F5ADB81#32
  | 98 => 0x3F1BD7CA#32
  | 99 => 0x3E8F45C0#32
  | 100 => 0xBDB27EB6#32
  | 101 => 0xBEE273AA#32
  | 102 => 0xBF3CBE35#32
  | 103 => 0xBF6E9811#32
  | 104 => 0xBF800000#32
  | 105 => 0xBF6E9811#32
  | 106 => 0xBF3CBE35#32
  | 107 => 0xBEE273AA#32
  | 108 => 0xBDB27EB6#32
  | 109 => 0x3E8F45C0#32
  | 110 => 0x3F1BD7CA#32
  | 111 => 0x3F5ADB81#32
  | 112 => 0x3F7C1C5C#32
  | 113 => 0x3F7B14BE#32
  | 114 => 0x3F57E880#32
  | 115 => 0x3F176012#32
  | 116 => 0x3E8483EE#32
  | 117 => 0xBDDEF599#32
  | 118 => 0xBEEC6A50#32
  | 119 => 0xBF407893#32
  | 120 => 0xBF708FB2#32
  | 121 => 0xBF7FF067#32
  | 122 => 0xBF6C835E#32
  | 123 => 0xBF38ECD8#32
  | 124 => 0xBED8616C#32
  | 125 => 0xBD85F213#32
  | 126 => 0x3E99F61C#32
  | 127 => 0x3F203C85#32
  | _ => 0#32

noncomputable abbrev lit1t0_39 (i : Nat) : BitVec 32 := match i % 128 with
  | 0 => 0x3F5DB3D7#32
  | 1 => 0x3F7D0543#32
  | 2 => 0x3F79EE89#32
  | 3 => 0x3F54DB31#32
  | 4 => 0x3F12D5E8#32
  | 5 => 0x3E7363EE#32
  | 6 => 0xBE05A8A8#32
  | 7 => 0xBEF64429#32
  | 8 => 0xBF441B7D#32
  | 9 => 0xBF726A03#32
  | 10 => 0xBF7FC1A0#32
  | 11 => 0xBF6A51DA#32
  | 12 => 0xBF3504F3#32
  | 13 => 0xBECE34D0#32
  | 14 => 0xBD32AA3E#32
  | 15 => 0x3EA493B7#32
  | 16 => 0x3F248DBB#32
  | 17 => 0x3F60712A#32
  | 18 => 0x3F7DCF55#32
  | 19 => 0x3F78A9E0#32
  | 20 => 0x3F51B3F3#32
  | 21 => 0x3F0E39DA#32
  | 22 => 0x3E5DA259#32
  | 23 => 0xBE1BC63C#32
  | 24 => 0xBF000000#32
  | 25 => 0xBF47A682#32
  | 26 => 0xBF7426CB#32
  | 27 => 0xBF7F73AF#32
  | 28 => 0xBF6803CA#32
  | 29 => 0xBF310700#32
  | 30 => 0xBEC3EF15#32
  | 31 => 0xBCB2B521#32
  | 32 => 0x3EAF1D44#32
  | 33 => 0x3F28CAE3#32
  | 34 => 0x3F631324#32
  | 35 => 0x3F7E7A7A#32
  | 36 => 0x3F7746EA#32
  | 37 => 0x3F4E7327#32
  | 38 => 0x3F098C78#32
  | 39 => 0x3E47C5C2#32
  | 40 => 0xBE31D0D4#32
  | 41 => 0xBF04CE53#32
  | 42 => 0xBF4B1934#32
  | 43 => 0xBF75C5D4#32
  | 44 => 0xBF7F069E#32
  | 45 => 0xBF659974#32
  | 46 => 0xBF2CF37B#32
  | 47 => 0xBEB9917B#32
  | 48 => 0xA50D3132#32
  | 49 => 0x3EB9917B#32
  | 50 => 0x3F2CF37B#32
  | 51 => 0x3F659974#32
  | 52 => 0x3F7F069E#32
  | 53 => 0x3F75C5D4#32
  | 54 => 0x3F4B1934#32
  | 55 => 0x3F04CE53#32
  | 56 => 0x3E31D0D4#32
  | 57 => 0xBE47C5C2#32
  | 58 => 0xBF098C78#32
  | 59 => 0xBF4E7327#32
  | 60 => 0xBF7746EA#32
  | 61 => 0xBF7E7A7A#32
  | 62 => 0xBF631324#32
  | 63 => 0xBF28CAE3#32
  | 64 => 0xBEAF1D44#32
  | 65 => 0x3CB2B521#32
  | 66 => 0x3EC3EF15#32
  | 67 => 0x3F310700#32
  | 68 => 0x3F6803CA#32
  | 69 => 0x3F7F73AF#32
  | 70 => 0x3F7426CB#32
  | 71 => 0x3F47A682#32
  | 72 => 0x3F000000#32
  | 73 => 0x3E1BC63C#32
  | 74 => 0xBE5DA259#32
  | 75 => 0xBF0E39DA#32
  | 76 => 0xBF51B3F3#32
  | 77 => 0xBF78A9E0#32
  | 78 => 0xBF7DCF55#32
  | 79 => 0xBF60712A#32
  | 80 => 0xBF248DBB#32
  | 81 => 0xBEA493B7#32
  | 82 => 0x3D32AA3E#32
  | 83 => 0x3ECE34D0#32
  | 84 => 0x3F3504F3#32
  | 85 => 0x3F6A51DA#32
  | 86 => 0x3F7FC1A0#32
  | 87 => 0x3F726A03#32
  | 88 => 0x3F441B7D#32
  | 89 => 0x3EF64429#32
  | 90 => 0x3E05A8A8#32
  | 91 => 0xBE7363EE#32
  | 92 => 0xBF12D5E8#32
  | 93 => 0xBF54DB31#32
  | 94 => 0xBF79EE89#32
  | 95 => 0xBF7D0543#32
  | 96 => 0xBF5DB3D7#32
  | 97 => 0xBF203C85#32
  | 98 => 0xBE99F61C#32
  | 99 => 0x3D85F213#32
  | 100 => 0x3ED8616C#32
  | 101 => 0x3F38ECD8#32
  | 102 => 0x3F6C835E#32
  | 103 => 0x3F7FF067#32
  | 104 => 0x3F708FB2#32
  | 105 => 0x3F407893#32
  | 106 => 0x3EEC6A50#32
  | 107 => 0x3DDEF599#32
  | 108 => 0xBE8483EE#32
  | 109 => 0xBF176012#32
  | 110 => 0xBF57E880#32
  | 111 => 0xBF7B14BE#32
  | 112 => 0xBF7C1C5C#32
  | 113 => 0xBF5ADB81#32
  | 114 => 0xBF1BD7CA#32
  | 115 => 0xBE8F45C0#32
  | 116 => 0x3DB27EB6#32
  | 117 => 0x3EE273AA#32
  | 118 => 0x3F3CBE35#32
  | 119 => 0x3F6E9811#32
  | 120 => 0x3F800000#32
  | 121 => 0x3F6E9811#32
  | 122 => 0x3F3CBE35#32
  | 123 => 0x3EE273AA#32
  | 124 => 0x3DB27EB6#32
  | 125 => 0xBE8F45C0#32
  | 126 => 0xBF1BD7CA#32
  | 127 => 0xBF5ADB81#32
  | _ => 0#32

noncomputable abbrev lit1t0_40 (i : Nat) : BitVec 32 := match i % 128 with
  | 0 => 0xBF7C1C5C#32
  | 1 => 0xBF7B14BE#32
  | 2 => 0xBF57E880#32
  | 3 => 0xBF176012#32
  | 4 => 0xBE8483EE#32
  | 5 => 0x3DDEF599#32
  | 6 => 0x3EEC6A50#32
  | 7 => 0x3F407893#32
  | 8 => 0x3F708FB2#32
  | 9 => 0x3F7FF067#32
  | 10 => 0x3F6C835E#32
  | 11 => 0x3F38ECD8#32
  | 12 => 0x3ED8616C#32
  | 13 => 0x3D85F213#32
  | 14 => 0xBE99F61C#32
  | 15 => 0xBF203C85#32
  | 16 => 0xBF5DB3D7#32
  | 17 => 0xBF7D0543#32
  | 18 => 0xBF79EE89#32
  | 19 => 0xBF54DB31#32
  | 20 => 0xBF12D5E8#32
  | 21 => 0xBE7363EE#32
  | 22 => 0x3E05A8A8#32
  | 23 => 0x3EF64429#32
  | 24 => 0x3F441B7D#32
  | 25 => 0x3F726A03#32
  | 26 => 0x3F7FC1A0#32
  | 27 => 0x3F6A51DA#32
  | 28 => 0x3F3504F3#32
  | 29 => 0x3ECE34D0#32
  | 30 => 0x3D32AA3E#32
  | 31 => 0xBEA493B7#32
  | 32 => 0xBF248DBB#32
  | 33 => 0xBF60712A#32
  | 34 => 0xBF7DCF55#32
  | 35 => 0xBF78A9E0#32
  | 36 => 0xBF51B3F3#32
  | 37 => 0xBF0E39DA#32
  | 38 => 0xBE5DA259#32
  | 39 => 0x3E1BC63C#32
  | 40 => 0x3F000000#32
  | 41 => 0x3F47A682#32
  | 42 => 0x3F7426CB#32
  | 43 => 0x3F7F73AF#32
  | 44 => 0x3F6803CA#32
  | 45 => 0x3F310700#32
  | 46 => 0x3EC3EF15#32
  | 47 => 0x3CB2B521#32
  | 48 => 0xBEAF1D44#32
  | 49 => 0xBF28CAE3#32
  | 50 => 0xBF631324#32
  | 51 => 0xBF7E7A7A#32
  | 52 => 0xBF7746EA#32
  | 53 => 0xBF4E7327#32
  | 54 => 0xBF098C78#32
  | 55 => 0xBE47C5C2#32
  | 56 => 0x3E31D0D4#32
  | 57 => 0x3F04CE53#32
  | 58 => 0x3F4B1934#32
  | 59 => 0x3F75C5D4#32
  | 60 => 0x3F7F069E#32
  | 61 => 0x3F659974#32
  | 62 => 0x3F2CF37B#32
  | 63 => 0x3EB9917B#32
  | 64 => 0x80000000#32
  | 65 => 0xBEC3EF15#32
  | 66 => 0xBF3504F3#32
  | 67 => 0xBF6C835E#32
  | 68 => 0xBF800000#32
  | 69 => 0xBF6C835E#32
  | 70 => 0xBF3504F3#32
  | 71 => 0xBEC3EF15#32
  | 72 => 0xA50D3132#32
  | 73 => 0x3EC3EF15#32
  | 74 => 0x3F3504F3#32
  | 75 => 0x3F6C835E#32
  | 76 => 0x3F800000#32
  | 77 => 0x3F6C835E#32
  | 78 => 0x3F3504F3#32
  | 79 => 0x3EC3EF15#32
  | 80 => 0x80000000#32
  | 81 => 0xBEC3EF15#32
  | 82 => 0xBF3504F3#32
  | 83 => 0xBF6C835E#32
  | 84 => 0xBF800000#32
  | 85 => 0xBF6C835E#32
  | 86 => 0xBF3504F3#32
  | 87 => 0xBEC3EF15#32
  | 88 => 0xA50D3132#32
  | 89 => 0x3EC3EF15#32
  | 90 => 0x3F3504F3#32
  | 91 => 0x3F6C835E#32
  | 92 => 0x3F800000#32
  | 93 => 0x3F6C835E#32
  | 94 => 0x3F3504F3#32
  | 95 => 0x3EC3EF15#32
  | 96 => 0x80000000#32
  | 97 => 0xBEC3EF15#32
  | 98 => 0xBF3504F3#32
  | 99 => 0xBF6C835E#32
  | 100 => 0xBF800000#32
  | 101 => 0xBF6C835E#32
  | 102 => 0xBF3504F3#32
  | 103 => 0xBEC3EF15#32
  | 104 => 0xA50D3132#32
  | 105 => 0x3EC3EF15#32
  | 106 => 0x3F3504F3#32
  | 107 => 0x3F6C835E#32
  | 108 => 0x3F800000#32
  | 109 => 0x3F6C835E#32
  | 110 => 0x3F3504F3#32
  | 111 => 0x3EC3EF15#32
  | 112 => 0x80000000#32
  | 113 => 0xBEC3EF15#32
  | 114 => 0xBF3504F3#32
  | 115 => 0xBF6C835E#32
  | 116 => 0xBF800000#32
  | 117 => 0xBF6C835E#32
  | 118 => 0xBF3504F3#32
  | 119 => 0xBEC3EF15#32
  | 120 => 0xA50D3132#32
  | 121 => 0x3EC3EF15#32
  | 122 => 0x3F3504F3#32
  | 123 => 0x3F6C835E#32
  | 124 => 0x3F800000#32
  | 125 => 0x3F6C835E#32
  | 126 => 0x3F3504F3#32
  | 127 => 0x3EC3EF15#32
  | _ => 0#32

noncomputable abbrev lit1t0_41 (i : Nat) : BitVec 32 := match i % 128 with
  | 0 => 0x80000000#32
  | 1 => 0xBEC3EF15#32
  | 2 => 0xBF3504F3#32
  | 3 => 0xBF6C835E#32
  | 4 => 0xBF800000#32
  | 5 => 0xBF6C835E#32
  | 6 => 0xBF3504F3#32
  | 7 => 0xBEC3EF15#32
  | 8 => 0xA50D3132#32
  | 9 => 0x3EC3EF15#32
  | 10 => 0x3F3504F3#32
  | 11 => 0x3F6C835E#32
  | 12 => 0x3F800000#32
  | 13 => 0x3F6C835E#32
  | 14 => 0x3F3504F3#32
  | 15 => 0x3EC3EF15#32
  | 16 => 0x80000000#32
  | 17 => 0xBEC3EF15#32
  | 18 => 0xBF3504F3#32
  | 19 => 0xBF6C835E#32
  | 20 => 0xBF800000#32
  | 21 => 0xBF6C835E#32
  | 22 => 0xBF3504F3#32
  | 23 => 0xBEC3EF15#32
  | 24 => 0xA50D3132#32
  | 25 => 0x3EC3EF15#32
  | 26 => 0x3F3504F3#32
  | 27 => 0x3F6C835E#32
  | 28 => 0x3F800000#32
  | 29 => 0x3F6C835E#32
  | 30 => 0x3F3504F3#32
  | 31 => 0x3EC3EF15#32
  | 32 => 0x80000000#32
  | 33 => 0xBEC3EF15#32
  | 34 => 0xBF3504F3#32
  | 35 => 0xBF6C835E#32
  | 36 => 0xBF800000#32
  | 37 => 0xBF6C835E#32
  | 38 => 0xBF3504F3#32
  | 39 => 0xBEC3EF15#32
  | 40 => 0xA50D3132#32
  | 41 => 0x3EC3EF15#32
  | 42 => 0x3F3504F3#32
  | 43 => 0x3F6C835E#32
  | 44 => 0x3F800000#32
  | 45 => 0x3F6C835E#32
  | 46 => 0x3F3504F3#32
  | 47 => 0x3EC3EF15#32
  | 48 => 0x80000000#32
  | 49 => 0xBEC3EF15#32
  | 50 => 0xBF3504F3#32
  | 51 => 0xBF6C835E#32
  | 52 => 0xBF800000#32
  | 53 => 0xBF6C835E#32
  | 54 => 0xBF3504F3#32
  | 55 => 0xBEC3EF15#32
  | 56 => 0xA50D3132#32
  | 57 => 0x3EC3EF15#32
  | 58 => 0x3F3504F3#32
  | 59 => 0x3F6C835E#32
  | 60 => 0x3F800000#32
  | 61 => 0x3F6C835E#32
  | 62 => 0x3F3504F3#32
  | 63 => 0x3EC3EF15#32
  | 64 => 0x80000000#32
  | 65 => 0xBEC3EF15#32
  | 66 => 0xBF3504F3#32
  | 67 => 0xBF6C835E#32
  | 68 => 0xBF800000#32
  | 69 => 0xBF6C835E#32
  | 70 => 0xBF3504F3#32
  | 71 => 0xBEC3EF15#32
  | 72 => 0xA50D3132#32
  | 73 => 0x3EC3EF15#32
  | 74 => 0x3F3504F3#32
  | 75 => 0x3F6C835E#32
  | 76 => 0x3F800000#32
  | 77 => 0x3F6C835E#32
  | 78 => 0x3F3504F3#32
  | 79 => 0x3EC3EF15#32
  | 80 => 0x80000000#32
  | 81 => 0xBEC3EF15#32
  | 82 => 0xBF3504F3#32
  | 83 => 0xBF6C835E#32
  | 84 => 0xBF800000#32
  | 85 => 0xBF6C835E#32
  | 86 => 0xBF3504F3#32
  | 87 => 0xBEC3EF15#32
  | 88 => 0xA50D3132#32
  | 89 => 0x3EC3EF15#32
  | 90 => 0x3F3504F3#32
  | 91 => 0x3F6C835E#32
  | 92 => 0x3F800000#32
  | 93 => 0x3F6C835E#32
  | 94 => 0x3F3504F3#32
  | 95 => 0x3EC3EF15#32
  | 96 => 0x80000000#32
  | 97 => 0xBEC3EF15#32
  | 98 => 0xBF3504F3#32
  | 99 => 0xBF6C835E#32
  | 100 => 0xBF800000#32
  | 101 => 0xBF6C835E#32
  | 102 => 0xBF3504F3#32
  | 103 => 0xBEC3EF15#32
  | 104 => 0xA50D3132#32
  | 105 => 0x3EC3EF15#32
  | 106 => 0x3F3504F3#32
  | 107 => 0x3F6C835E#32
  | 108 => 0x3F800000#32
  | 109 => 0x3F6C835E#32
  | 110 => 0x3F3504F3#32
  | 111 => 0x3EC3EF15#32
  | 112 => 0x80000000#32
  | 113 => 0xBEC3EF15#32
  | 114 => 0xBF3504F3#32
  | 115 => 0xBF6C835E#32
  | 116 => 0xBF800000#32
  | 117 => 0xBF6C835E#32
  | 118 => 0xBF3504F3#32
  | 119 => 0xBEC3EF15#32
  | 120 => 0xA50D3132#32
  | 121 => 0x3EC3EF15#32
  | 122 => 0x3F3504F3#32
  | 123 => 0x3F6C835E#32
  | 124 => 0x3F800000#32
  | 125 => 0x3F6C835E#32
  | 126 => 0x3F3504F3#32
  | 127 => 0x3EC3EF15#32
  | _ => 0#32

noncomputable abbrev lit1t0_42 (i : Nat) : BitVec 32 := match i % 128 with
  | 0 => 0x80000000#32
  | 1 => 0xBEC3EF15#32
  | 2 => 0xBF3504F3#32
  | 3 => 0xBF6C835E#32
  | 4 => 0xBF800000#32
  | 5 => 0xBF6C835E#32
  | 6 => 0xBF3504F3#32
  | 7 => 0xBEC3EF15#32
  | 8 => 0xA50D3132#32
  | 9 => 0x3EC3EF15#32
  | 10 => 0x3F3504F3#32
  | 11 => 0x3F6C835E#32
  | 12 => 0x3F800000#32
  | 13 => 0x3F6C835E#32
  | 14 => 0x3F3504F3#32
  | 15 => 0x3EC3EF15#32
  | 16 => 0x80000000#32
  | 17 => 0xBEC3EF15#32
  | 18 => 0xBF3504F3#32
  | 19 => 0xBF6C835E#32
  | 20 => 0xBF800000#32
  | 21 => 0xBF6C835E#32
  | 22 => 0xBF3504F3#32
  | 23 => 0xBEC3EF15#32
  | 24 => 0xA50D3132#32
  | 25 => 0x3EC3EF15#32
  | 26 => 0x3F3504F3#32
  | 27 => 0x3F6C835E#32
  | 28 => 0x3F800000#32
  | 29 => 0x3F6C835E#32
  | 30 => 0x3F3504F3#32
  | 31 => 0x3EC3EF15#32
  | 32 => 0x80000000#32
  | 33 => 0xBEC3EF15#32
  | 34 => 0xBF3504F3#32
  | 35 => 0xBF6C835E#32
  | 36 => 0xBF800000#32
  | 37 => 0xBF6C835E#32
  | 38 => 0xBF3504F3#32
  | 39 => 0xBEC3EF15#32
  | 40 => 0xA50D3132#32
  | 41 => 0x3EC3EF15#32
  | 42 => 0x3F3504F3#32
  | 43 => 0x3F6C835E#32
  | 44 => 0x3F800000#32
  | 45 => 0x3F6C835E#32
  | 46 => 0x3F3504F3#32
  | 47 => 0x3EC3EF15#32
  | 48 => 0x80000000#32
  | 49 => 0xBEC3EF15#32
  | 50 => 0xBF3504F3#32
  | 51 => 0xBF6C835E#32
  | 52 => 0xBF800000#32
  | 53 => 0xBF6C835E#32
  | 54 => 0xBF3504F3#32
  | 55 => 0xBEC3EF15#32
  | 56 => 0xA50D3132#32
  | 57 => 0x3EC3EF15#32
  | 58 => 0x3F3504F3#32
  | 59 => 0x3F6C835E#32
  | 60 => 0x3F800000#32
  | 61 => 0x3F6C835E#32
  | 62 => 0x3F3504F3#32
  | 63 => 0x3EC3EF15#32
  | 64 => 0x80000000#32
  | 65 => 0xBEC3EF15#32
  | 66 => 0xBF3504F3#32
  | 67 => 0xBF6C835E#32
  | 68 => 0xBF800000#32
  | 69 => 0xBF6C835E#32
  | 70 => 0xBF3504F3#32
  | 71 => 0xBEC3EF15#32
  | 72 => 0xA50D3132#32
  | 73 => 0x3EC3EF15#32
  | 74 => 0x3F3504F3#32
  | 75 => 0x3F6C835E#32
  | 76 => 0x3F800000#32
  | 77 => 0x3F6C835E#32
  | 78 => 0x3F3504F3#32
  | 79 => 0x3EC3EF15#32
  | 80 => 0x80000000#32
  | 81 => 0xBEC3EF15#32
  | 82 => 0xBF3504F3#32
  | 83 => 0xBF6C835E#32
  | 84 => 0xBF800000#32
  | 85 => 0xBF6C835E#32
  | 86 => 0xBF3504F3#32
  | 87 => 0xBEC3EF15#32
  | 88 => 0xA50D3132#32
  | 89 => 0x3EC3EF15#32
  | 90 => 0x3F3504F3#32
  | 91 => 0x3F6C835E#32
  | 92 => 0x3F800000#32
  | 93 => 0x3F6C835E#32
  | 94 => 0x3F3504F3#32
  | 95 => 0x3EC3EF15#32
  | 96 => 0x80000000#32
  | 97 => 0xBECE34D0#32
  | 98 => 0xBF3CBE35#32
  | 99 => 0xBF726A03#32
  | 100 => 0xBF7F069E#32
  | 101 => 0xBF60712A#32
  | 102 => 0xBF1BD7CA#32
  | 103 => 0xBE7363EE#32
  | 104 => 0x3E31D0D4#32
  | 105 => 0x3F0E39DA#32
  | 106 => 0x3F57E880#32
  | 107 => 0x3F7D0543#32
  | 108 => 0x3F7746EA#32
  | 109 => 0x3F47A682#32
  | 110 => 0x3EEC6A50#32
  | 111 => 0x3D85F213#32
  | 112 => 0xBEAF1D44#32
  | 113 => 0xBF310700#32
  | 114 => 0xBF6C835E#32
  | 115 => 0xBF7FF067#32
  | 116 => 0xBF6803CA#32
  | 117 => 0xBF28CAE3#32
  | 118 => 0xBE99F61C#32
  | 119 => 0x3DDEF599#32
  | 120 => 0x3F000000#32
  | 121 => 0x3F4E7327#32
  | 122 => 0x3F79EE89#32
  | 123 => 0x3F7B14BE#32
  | 124 => 0x3F51B3F3#32
  | 125 => 0x3F04CE53#32
  | 126 => 0x3E05A8A8#32
  | 127 => 0xBE8F45C0#32
  | _ => 0#32

noncomputable abbrev lit1t0_43 (i : Nat) : BitVec 32 := match i % 128 with
  | 0 => 0xBF248DBB#32
  | 1 => 0xBF659974#32
  | 2 => 0xBF7FC1A0#32
  | 3 => 0xBF6E9811#32
  | 4 => 0xBF3504F3#32
  | 5 => 0xBEB9917B#32
  | 6 => 0x3D32AA3E#32
  | 7 => 0x3EE273AA#32
  | 8 => 0x3F441B7D#32
  | 9 => 0x3F75C5D4#32
  | 10 => 0x3F7DCF55#32
  | 11 => 0x3F5ADB81#32
  | 12 => 0x3F12D5E8#32
  | 13 => 0x3E47C5C2#32
  | 14 => 0xBE5DA259#32
  | 15 => 0xBF176012#32
  | 16 => 0xBF5DB3D7#32
  | 17 => 0xBF7E7A7A#32
  | 18 => 0xBF7426CB#32
  | 19 => 0xBF407893#32
  | 20 => 0xBED8616C#32
  | 21 => 0xBCB2B521#32
  | 22 => 0x3EC3EF15#32
  | 23 => 0x3F38ECD8#32
  | 24 => 0x3F708FB2#32
  | 25 => 0x3F7F73AF#32
  | 26 => 0x3F631324#32
  | 27 => 0x3F203C85#32
  | 28 => 0x3E8483EE#32
  | 29 => 0xBE1BC63C#32
  | 30 => 0xBF098C78#32
  | 31 => 0xBF54DB31#32
  | 32 => 0xBF7C1C5C#32
  | 33 => 0xBF78A9E0#32
  | 34 => 0xBF4B1934#32
  | 35 => 0xBEF64429#32
  | 36 => 0xBDB27EB6#32
  | 37 => 0x3EA493B7#32
  | 38 => 0x3F2CF37B#32
  | 39 => 0x3F6A51DA#32
  | 40 => 0x3F800000#32
  | 41 => 0x3F6A51DA#32
  | 42 => 0x3F2CF37B#32
  | 43 => 0x3EA493B7#32
  | 44 => 0xBDB27EB6#32
  | 45 => 0xBEF64429#32
  | 46 => 0xBF4B1934#32
  | 47 => 0xBF78A9E0#32
  | 48 => 0xBF7C1C5C#32
  | 49 => 0xBF54DB31#32
  | 50 => 0xBF098C78#32
  | 51 => 0xBE1BC63C#32
  | 52 => 0x3E8483EE#32
  | 53 => 0x3F203C85#32
  | 54 => 0x3F631324#32
  | 55 => 0x3F7F73AF#32
  | 56 => 0x3F708FB2#32
  | 57 => 0x3F38ECD8#32
  | 58 => 0x3EC3EF15#32
  | 59 => 0xBCB2B521#32
  | 60 => 0xBED8616C#32
  | 61 => 0xBF407893#32
  | 62 => 0xBF7426CB#32
  | 63 => 0xBF7E7A7A#32
  | 64 => 0xBF5DB3D7#32
  | 65 => 0xBF176012#32
  | 66 => 0xBE5DA259#32
  | 67 => 0x3E47C5C2#32
  | 68 => 0x3F12D5E8#32
  | 69 => 0x3F5ADB81#32
  | 70 => 0x3F7DCF55#32
  | 71 => 0x3F75C5D4#32
  | 72 => 0x3F441B7D#32
  | 73 => 0x3EE273AA#32
  | 74 => 0x3D32AA3E#32
  | 75 => 0xBEB9917B#32
  | 76 => 0xBF3504F3#32
  | 77 => 0xBF6E9811#32
  | 78 => 0xBF7FC1A0#32
  | 79 => 0xBF659974#32
  | 80 => 0xBF248DBB#32
  | 81 => 0xBE8F45C0#32
  | 82 => 0x3E05A8A8#32
  | 83 => 0x3F04CE53#32
  | 84 => 0x3F51B3F3#32
  | 85 => 0x3F7B14BE#32
  | 86 => 0x3F79EE89#32
  | 87 => 0x3F4E7327#32
  | 88 => 0x3F000000#32
  | 89 => 0x3DDEF599#32
  | 90 => 0xBE99F61C#32
  | 91 => 0xBF28CAE3#32
  | 92 => 0xBF6803CA#32
  | 93 => 0xBF7FF067#32
  | 94 => 0xBF6C835E#32
  | 95 => 0xBF310700#32
  | 96 => 0xBEAF1D44#32
  | 97 => 0x3D85F213#32
  | 98 => 0x3EEC6A50#32
  | 99 => 0x3F47A682#32
  | 100 => 0x3F7746EA#32
  | 101 => 0x3F7D0543#32
  | 102 => 0x3F57E880#32
  | 103 => 0x3F0E39DA#32
  | 104 => 0x3E31D0D4#32
  | 105 => 0xBE7363EE#32
  | 106 => 0xBF1BD7CA#32
  | 107 => 0xBF60712A#32
  | 108 => 0xBF7F069E#32
  | 109 => 0xBF726A03#32
  | 110 => 0xBF3CBE35#32
  | 111 => 0xBECE34D0#32
  | 112 => 0xA50D3132#32
  | 113 => 0x3ECE34D0#32
  | 114 => 0x3F3CBE35#32
  | 115 => 0x3F726A03#32
  | 116 => 0x3F7F069E#32
  | 117 => 0x3F60712A#32
  | 118 => 0x3F1BD7CA#32
  | 119 => 0x3E7363EE#32
  | 120 => 0xBE31D0D4#32
  | 121 => 0xBF0E39DA#32
  | 122 => 0xBF57E880#32
  | 123 => 0xBF7D0543#32
  | 124 => 0xBF7746EA#32
  | 125 => 0xBF47A682#32
  | 126 => 0xBEEC6A50#32
  | 127 => 0xBD85F213#32
  | _ => 0#32

noncomputable abbrev lit1t0_44 (i : Nat) : BitVec 32 := match i % 128 with
  | 0 => 0x3EAF1D44#32
  | 1 => 0x3F310700#32
  | 2 => 0x3F6C835E#32
  | 3 => 0x3F7FF067#32
  | 4 => 0x3F6803CA#32
  | 5 => 0x3F28CAE3#32
  | 6 => 0x3E99F61C#32
  | 7 => 0xBDDEF599#32
  | 8 => 0xBF000000#32
  | 9 => 0xBF4E7327#32
  | 10 => 0xBF79EE89#32
  | 11 => 0xBF7B14BE#32
  | 12 => 0xBF51B3F3#32
  | 13 => 0xBF04CE53#32
  | 14 => 0xBE05A8A8#32
  | 15 => 0x3E8F45C0#32
  | 16 => 0x3F248DBB#32
  | 17 => 0x3F659974#32
  | 18 => 0x3F7FC1A0#32
  | 19 => 0x3F6E9811#32
  | 20 => 0x3F3504F3#32
  | 21 => 0x3EB9917B#32
  | 22 => 0xBD32AA3E#32
  | 23 => 0xBEE273AA#32
  | 24 => 0xBF441B7D#32
  | 25 => 0xBF75C5D4#32
  | 26 => 0xBF7DCF55#32
  | 27 => 0xBF5ADB81#32
  | 28 => 0xBF12D5E8#32
  | 29 => 0xBE47C5C2#32
  | 30 => 0x3E5DA259#32
  | 31 => 0x3F176012#32
  | 32 => 0x3F5DB3D7#32
  | 33 => 0x3F7E7A7A#32
  | 34 => 0x3F7426CB#32
  | 35 => 0x3F407893#32
  | 36 => 0x3ED8616C#32
  | 37 => 0x3CB2B521#32
  | 38 => 0xBEC3EF15#32
  | 39 => 0xBF38ECD8#32
  | 40 => 0xBF708FB2#32
  | 41 => 0xBF7F73AF#32
  | 42 => 0xBF631324#32
  | 43 => 0xBF203C85#32
  | 44 => 0xBE8483EE#32
  | 45 => 0x3E1BC63C#32
  | 46 => 0x3F098C78#32
  | 47 => 0x3F54DB31#32
  | 48 => 0x3F7C1C5C#32
  | 49 => 0x3F78A9E0#32
  | 50 => 0x3F4B1934#32
  | 51 => 0x3EF64429#32
  | 52 => 0x3DB27EB6#32
  | 53 => 0xBEA493B7#32
  | 54 => 0xBF2CF37B#32
  | 55 => 0xBF6A51DA#32
  | 56 => 0xBF800000#32
  | 57 => 0xBF6A51DA#32
  | 58 => 0xBF2CF37B#32
  | 59 => 0xBEA493B7#32
  | 60 => 0x3DB27EB6#32
  | 61 => 0x3EF64429#32
  | 62 => 0x3F4B1934#32
  | 63 => 0x3F78A9E0#32
  | 64 => 0x3F7C1C5C#32
  | 65 => 0x3F54DB31#32
  | 66 => 0x3F098C78#32
  | 67 => 0x3E1BC63C#32
  | 68 => 0xBE8483EE#32
  | 69 => 0xBF203C85#32
  | 70 => 0xBF631324#32
  | 71 => 0xBF7F73AF#32
  | 72 => 0xBF708FB2#32
  | 73 => 0xBF38ECD8#32
  | 74 => 0xBEC3EF15#32
  | 75 => 0x3CB2B521#32
  | 76 => 0x3ED8616C#32
  | 77 => 0x3F407893#32
  | 78 => 0x3F7426CB#32
  | 79 => 0x3F7E7A7A#32
  | 80 => 0x3F5DB3D7#32
  | 81 => 0x3F176012#32
  | 82 => 0x3E5DA259#32
  | 83 => 0xBE47C5C2#32
  | 84 => 0xBF12D5E8#32
  | 85 => 0xBF5ADB81#32
  | 86 => 0xBF7DCF55#32
  | 87 => 0xBF75C5D4#32
  | 88 => 0xBF441B7D#32
  | 89 => 0xBEE273AA#32
  | 90 => 0xBD32AA3E#32
  | 91 => 0x3EB9917B#32
  | 92 => 0x3F3504F3#32
  | 93 => 0x3F6E9811#32
  | 94 => 0x3F7FC1A0#32
  | 95 => 0x3F659974#32
  | 96 => 0x3F248DBB#32
  | 97 => 0x3E8F45C0#32
  | 98 => 0xBE05A8A8#32
  | 99 => 0xBF04CE53#32
  | 100 => 0xBF51B3F3#32
  | 101 => 0xBF7B14BE#32
  | 102 => 0xBF79EE89#32
  | 103 => 0xBF4E7327#32
  | 104 => 0xBF000000#32
  | 105 => 0xBDDEF599#32
  | 106 => 0x3E99F61C#32
  | 107 => 0x3F28CAE3#32
  | 108 => 0x3F6803CA#32
  | 109 => 0x3F7FF067#32
  | 110 => 0x3F6C835E#32
  | 111 => 0x3F310700#32
  | 112 => 0x3EAF1D44#32
  | 113 => 0xBD85F213#32
  | 114 => 0xBEEC6A50#32
  | 115 => 0xBF47A682#32
  | 116 => 0xBF7746EA#32
  | 117 => 0xBF7D0543#32
  | 118 => 0xBF57E880#32
  | 119 => 0xBF0E39DA#32
  | 120 => 0xBE31D0D4#32
  | 121 => 0x3E7363EE#32
  | 122 => 0x3F1BD7CA#32
  | 123 => 0x3F60712A#32
  | 124 => 0x3F7F069E#32
  | 125 => 0x3F726A03#32
  | 126 => 0x3F3CBE35#32
  | 127 => 0x3ECE34D0#32
  | _ => 0#32

noncomputable abbrev lit1t0_45 (i : Nat) : BitVec 32 := match i % 128 with
  | 0 => 0x80000000#32
  | 1 => 0xBED8616C#32
  | 2 => 0xBF441B7D#32
  | 3 => 0xBF7746EA#32
  | 4 => 0xBF7C1C5C#32
  | 5 => 0xBF51B3F3#32
  | 6 => 0xBF000000#32
  | 7 => 0xBDB27EB6#32
  | 8 => 0x3EAF1D44#32
  | 9 => 0x3F3504F3#32
  | 10 => 0x3F708FB2#32
  | 11 => 0x3F7F069E#32
  | 12 => 0x3F5DB3D7#32
  | 13 => 0x3F12D5E8#32
  | 14 => 0x3E31D0D4#32
  | 15 => 0xBE8483EE#32
  | 16 => 0xBF248DBB#32
  | 17 => 0xBF6803CA#32
  | 18 => 0xBF800000#32
  | 19 => 0xBF6803CA#32
  | 20 => 0xBF248DBB#32
  | 21 => 0xBE8483EE#32
  | 22 => 0x3E31D0D4#32
  | 23 => 0x3F12D5E8#32
  | 24 => 0x3F5DB3D7#32
  | 25 => 0x3F7F069E#32
  | 26 => 0x3F708FB2#32
  | 27 => 0x3F3504F3#32
  | 28 => 0x3EAF1D44#32
  | 29 => 0xBDB27EB6#32
  | 30 => 0xBF000000#32
  | 31 => 0xBF51B3F3#32
  | 32 => 0xBF7C1C5C#32
  | 33 => 0xBF7746EA#32
  | 34 => 0xBF441B7D#32
  | 35 => 0xBED8616C#32
  | 36 => 0xA50D3132#32
  | 37 => 0x3ED8616C#32
  | 38 => 0x3F441B7D#32
  | 39 => 0x3F7746EA#32
  | 40 => 0x3F7C1C5C#32
  | 41 => 0x3F51B3F3#32
  | 42 => 0x3F000000#32
  | 43 => 0x3DB27EB6#32
  | 44 => 0xBEAF1D44#32
  | 45 => 0xBF3504F3#32
  | 46 => 0xBF708FB2#32
  | 47 => 0xBF7F069E#32
  | 48 => 0xBF5DB3D7#32
  | 49 => 0xBF12D5E8#32
  | 50 => 0xBE31D0D4#32
  | 51 => 0x3E8483EE#32
  | 52 => 0x3F248DBB#32
  | 53 => 0x3F6803CA#32
  | 54 => 0x3F800000#32
  | 55 => 0x3F6803CA#32
  | 56 => 0x3F248DBB#32
  | 57 => 0x3E8483EE#32
  | 58 => 0xBE31D0D4#32
  | 59 => 0xBF12D5E8#32
  | 60 => 0xBF5DB3D7#32
  | 61 => 0xBF7F069E#32
  | 62 => 0xBF708FB2#32
  | 63 => 0xBF3504F3#32
  | 64 => 0xBEAF1D44#32
  | 65 => 0x3DB27EB6#32
  | 66 => 0x3F000000#32
  | 67 => 0x3F51B3F3#32
  | 68 => 0x3F7C1C5C#32
  | 69 => 0x3F7746EA#32
  | 70 => 0x3F441B7D#32
  | 71 => 0x3ED8616C#32
  | 72 => 0x80000000#32
  | 73 => 0xBED8616C#32
  | 74 => 0xBF441B7D#32
  | 75 => 0xBF7746EA#32
  | 76 => 0xBF7C1C5C#32
  | 77 => 0xBF51B3F3#32
  | 78 => 0xBF000000#32
  | 79 => 0xBDB27EB6#32
  | 80 => 0x3EAF1D44#32
  | 81 => 0x3F3504F3#32
  | 82 => 0x3F708FB2#32
  | 83 => 0x3F7F069E#32
  | 84 => 0x3F5DB3D7#32
  | 85 => 0x3F12D5E8#32
  | 86 => 0x3E31D0D4#32
  | 87 => 0xBE8483EE#32
  | 88 => 0xBF248DBB#32
  | 89 => 0xBF6803CA#32
  | 90 => 0xBF800000#32
  | 91 => 0xBF6803CA#32
  | 92 => 0xBF248DBB#32
  | 93 => 0xBE8483EE#32
  | 94 => 0x3E31D0D4#32
  | 95 => 0x3F12D5E8#32
  | 96 => 0x3F5DB3D7#32
  | 97 => 0x3F7F069E#32
  | 98 => 0x3F708FB2#32
  | 99 => 0x3F3504F3#32
  | 100 => 0x3EAF1D44#32
  | 101 => 0xBDB27EB6#32
  | 102 => 0xBF000000#32
  | 103 => 0xBF51B3F3#32
  | 104 => 0xBF7C1C5C#32
  | 105 => 0xBF7746EA#32
  | 106 => 0xBF441B7D#32
  | 107 => 0xBED8616C#32
  | 108 => 0xA50D3132#32
  | 109 => 0x3ED8616C#32
  | 110 => 0x3F441B7D#32
  | 111 => 0x3F7746EA#32
  | 112 => 0x3F7C1C5C#32
  | 113 => 0x3F51B3F3#32
  | 114 => 0x3F000000#32
  | 115 => 0x3DB27EB6#32
  | 116 => 0xBEAF1D44#32
  | 117 => 0xBF3504F3#32
  | 118 => 0xBF708FB2#32
  | 119 => 0xBF7F069E#32
  | 120 => 0xBF5DB3D7#32
  | 121 => 0xBF12D5E8#32
  | 122 => 0xBE31D0D4#32
  | 123 => 0x3E8483EE#32
  | 124 => 0x3F248DBB#32
  | 125 => 0x3F6803CA#32
  | 126 => 0x3F800000#32
  | 127 => 0x3F6803CA#32
  | _ => 0#32

noncomputable abbrev lit1t0_46 (i : Nat) : BitVec 32 := match i % 128 with
  | 0 => 0x3F248DBB#32
  | 1 => 0x3E8483EE#32
  | 2 => 0xBE31D0D4#32
  | 3 => 0xBF12D5E8#32
  | 4 => 0xBF5DB3D7#32
  | 5 => 0xBF7F069E#32
  | 6 => 0xBF708FB2#32
  | 7 => 0xBF3504F3#32
  | 8 => 0xBEAF1D44#32
  | 9 => 0x3DB27EB6#32
  | 10 => 0x3F000000#32
  | 11 => 0x3F51B3F3#32
  | 12 => 0x3F7C1C5C#32
  | 13 => 0x3F7746EA#32
  | 14 => 0x3F441B7D#32
  | 15 => 0x3ED8616C#32
  | 16 => 0x80000000#32
  | 17 => 0xBED8616C#32
  | 18 => 0xBF441B7D#32
  | 19 => 0xBF7746EA#32
  | 20 => 0xBF7C1C5C#32
  | 21 => 0xBF51B3F3#32
  | 22 => 0xBF000000#32
  | 23 => 0xBDB27EB6#32
  | 24 => 0x3EAF1D44#32
  | 25 => 0x3F3504F3#32
  | 26 => 0x3F708FB2#32
  | 27 => 0x3F7F069E#32
  | 28 => 0x3F5DB3D7#32
  | 29 => 0x3F12D5E8#32
  | 30 => 0x3E31D0D4#32
  | 31 => 0xBE8483EE#32
  | 32 => 0xBF248DBB#32
  | 33 => 0xBF6803CA#32
  | 34 => 0xBF800000#32
  | 35 => 0xBF6803CA#32
  | 36 => 0xBF248DBB#32
  | 37 => 0xBE8483EE#32
  | 38 => 0x3E31D0D4#32
  | 39 => 0x3F12D5E8#32
  | 40 => 0x3F5DB3D7#32
  | 41 => 0x3F7F069E#32
  | 42 => 0x3F708FB2#32
  | 43 => 0x3F3504F3#32
  | 44 => 0x3EAF1D44#32
  | 45 => 0xBDB27EB6#32
  | 46 => 0xBF000000#32
  | 47 => 0xBF51B3F3#32
  | 48 => 0xBF7C1C5C#32
  | 49 => 0xBF7746EA#32
  | 50 => 0xBF441B7D#32
  | 51 => 0xBED8616C#32
  | 52 => 0xA50D3132#32
  | 53 => 0x3ED8616C#32
  | 54 => 0x3F441B7D#32
  | 55 => 0x3F7746EA#32
  | 56 => 0x3F7C1C5C#32
  | 57 => 0x3F51B3F3#32
  | 58 => 0x3F000000#32
  | 59 => 0x3DB27EB6#32
  | 60 => 0xBEAF1D44#32
  | 61 => 0xBF3504F3#32
  | 62 => 0xBF708FB2#32
  | 63 => 0xBF7F069E#32
  | 64 => 0xBF5DB3D7#32
  | 65 => 0xBF12D5E8#32
  | 66 => 0xBE31D0D4#32
  | 67 => 0x3E8483EE#32
  | 68 => 0x3F248DBB#32
  | 69 => 0x3F6803CA#32
  | 70 => 0x3F800000#32
  | 71 => 0x3F6803CA#32
  | 72 => 0x3F248DBB#32
  | 73 => 0x3E8483EE#32
  | 74 => 0xBE31D0D4#32
  | 75 => 0xBF12D5E8#32
  | 76 => 0xBF5DB3D7#32
  | 77 => 0xBF7F069E#32
  | 78 => 0xBF708FB2#32
  | 79 => 0xBF3504F3#32
  | 80 => 0xBEAF1D44#32
  | 81 => 0x3DB27EB6#32
  | 82 => 0x3F000000#32
  | 83 => 0x3F51B3F3#32
  | 84 => 0x3F7C1C5C#32
  | 85 => 0x3F7746EA#32
  | 86 => 0x3F441B7D#32
  | 87 => 0x3ED8616C#32
  | 88 => 0x80000000#32
  | 89 => 0xBED8616C#32
  | 90 => 0xBF441B7D#32
  | 91 => 0xBF7746EA#32
  | 92 => 0xBF7C1C5C#32
  | 93 => 0xBF51B3F3#32
  | 94 => 0xBF000000#32
  | 95 => 0xBDB27EB6#32
  | 96 => 0x3EAF1D44#32
  | 97 => 0x3F3504F3#32
  | 98 => 0x3F708FB2#32
  | 99 => 0x3F7F069E#32
  | 100 => 0x3F5DB3D7#32
  | 101 => 0x3F12D5E8#32
  | 102 => 0x3E31D0D4#32
  | 103 => 0xBE8483EE#32
  | 104 => 0xBF248DBB#32
  | 105 => 0xBF6803CA#32
  | 106 => 0xBF800000#32
  | 107 => 0xBF6803CA#32
  | 108 => 0xBF248DBB#32
  | 109 => 0xBE8483EE#32
  | 110 => 0x3E31D0D4#32
  | 111 => 0x3F12D5E8#32
  | 112 => 0x3F5DB3D7#32
  | 113 => 0x3F7F069E#32
  | 114 => 0x3F708FB2#32
  | 115 => 0x3F3504F3#32
  | 116 => 0x3EAF1D44#32
  | 117 => 0xBDB27EB6#32
  | 118 => 0xBF000000#32
  | 119 => 0xBF51B3F3#32
  | 120 => 0xBF7C1C5C#32
  | 121 => 0xBF7746EA#32
  | 122 => 0xBF441B7D#32
  | 123 => 0xBED8616C#32
  | 124 => 0xA50D3132#32
  | 125 => 0x3ED8616C#32
  | 126 => 0x3F441B7D#32
  | 127 => 0x3F7746EA#32
  | _ => 0#32

noncomputable abbrev lit1t0_47 (i : Nat) : BitVec 32 := match i % 128 with
  | 0 => 0x3F7C1C5C#32
  | 1 => 0x3F51B3F3#32
  | 2 => 0x3F000000#32
  | 3 => 0x3DB27EB6#32
  | 4 => 0xBEAF1D44#32
  | 5 => 0xBF3504F3#32
  | 6 => 0xBF708FB2#32
  | 7 => 0xBF7F069E#32
  | 8 => 0xBF5DB3D7#32
  | 9 => 0xBF12D5E8#32
  | 10 => 0xBE31D0D4#32
  | 11 => 0x3E8483EE#32
  | 12 => 0x3F248DBB#32
  | 13 => 0x3F6803CA#32
  | 14 => 0x3F800000#32
  | 15 => 0x3F6803CA#32
  | 16 => 0x3F248DBB#32
  | 17 => 0x3E8483EE#32
  | 18 => 0xBE31D0D4#32
  | 19 => 0xBF12D5E8#32
  | 20 => 0xBF5DB3D7#32
  | 21 => 0xBF7F069E#32
  | 22 => 0xBF708FB2#32
  | 23 => 0xBF3504F3#32
  | 24 => 0xBEAF1D44#32
  | 25 => 0x3DB27EB6#32
  | 26 => 0x3F000000#32
  | 27 => 0x3F51B3F3#32
  | 28 => 0x3F7C1C5C#32
  | 29 => 0x3F7746EA#32
  | 30 => 0x3F441B7D#32
  | 31 => 0x3ED8616C#32
  | 32 => 0x80000000#32
  | 33 => 0xBEE273AA#32
  | 34 => 0xBF4B1934#32
  | 35 => 0xBF7B14BE#32
  | 36 => 0xBF7746EA#32
  | 37 => 0xBF407893#32
  | 38 => 0xBEC3EF15#32
  | 39 => 0x3D85F213#32
  | 40 => 0x3F000000#32
  | 41 => 0x3F54DB31#32
  | 42 => 0x3F7DCF55#32
  | 43 => 0x3F726A03#32
  | 44 => 0x3F3504F3#32
  | 45 => 0x3EA493B7#32
  | 46 => 0xBE05A8A8#32
  | 47 => 0xBF0E39DA#32
  | 48 => 0xBF5DB3D7#32
  | 49 => 0xBF7F73AF#32
  | 50 => 0xBF6C835E#32
  | 51 => 0xBF28CAE3#32
  | 52 => 0xBE8483EE#32
  | 53 => 0x3E47C5C2#32
  | 54 => 0x3F1BD7CA#32
  | 55 => 0x3F659974#32
  | 56 => 0x3F800000#32
  | 57 => 0x3F659974#32
  | 58 => 0x3F1BD7CA#32
  | 59 => 0x3E47C5C2#32
  | 60 => 0xBE8483EE#32
  | 61 => 0xBF28CAE3#32
  | 62 => 0xBF6C835E#32
  | 63 => 0xBF7F73AF#32
  | 64 => 0xBF5DB3D7#32
  | 65 => 0xBF0E39DA#32
  | 66 => 0xBE05A8A8#32
  | 67 => 0x3EA493B7#32
  | 68 => 0x3F3504F3#32
  | 69 => 0x3F726A03#32
  | 70 => 0x3F7DCF55#32
  | 71 => 0x3F54DB31#32
  | 72 => 0x3F000000#32
  | 73 => 0x3D85F213#32
  | 74 => 0xBEC3EF15#32
  | 75 => 0xBF407893#32
  | 76 => 0xBF7746EA#32
  | 77 => 0xBF7B14BE#32
  | 78 => 0xBF4B1934#32
  | 79 => 0xBEE273AA#32
  | 80 => 0xA50D3132#32
  | 81 => 0x3EE273AA#32
  | 82 => 0x3F4B1934#32
  | 83 => 0x3F7B14BE#32
  | 84 => 0x3F7746EA#32
  | 85 => 0x3F407893#32
  | 86 => 0x3EC3EF15#32
  | 87 => 0xBD85F213#32
  | 88 => 0xBF000000#32
  | 89 => 0xBF54DB31#32
  | 90 => 0xBF7DCF55#32
  | 91 => 0xBF726A03#32
  | 92 => 0xBF3504F3#32
  | 93 => 0xBEA493B7#32
  | 94 => 0x3E05A8A8#32
  | 95 => 0x3F0E39DA#32
  | 96 => 0x3F5DB3D7#32
  | 97 => 0x3F7F73AF#32
  | 98 => 0x3F6C835E#32
  | 99 => 0x3F28CAE3#32
  | 100 => 0x3E8483EE#32
  | 101 => 0xBE47C5C2#32
  | 102 => 0xBF1BD7CA#32
  | 103 => 0xBF659974#32
  | 104 => 0xBF800000#32
  | 105 => 0xBF659974#32
  | 106 => 0xBF1BD7CA#32
  | 107 => 0xBE47C5C2#32
  | 108 => 0x3E8483EE#32
  | 109 => 0x3F28CAE3#32
  | 110 => 0x3F6C835E#32
  | 111 => 0x3F7F73AF#32
  | 112 => 0x3F5DB3D7#32
  | 113 => 0x3F0E39DA#32
  | 114 => 0x3E05A8A8#32
  | 115 => 0xBEA493B7#32
  | 116 => 0xBF3504F3#32
  | 117 => 0xBF726A03#32
  | 118 => 0xBF7DCF55#32
  | 119 => 0xBF54DB31#32
  | 120 => 0xBF000000#32
  | 121 => 0xBD85F213#32
  | 122 => 0x3EC3EF15#32
  | 123 => 0x3F407893#32
  | 124 => 0x3F7746EA#32
  | 125 => 0x3F7B14BE#32
  | 126 => 0x3F4B1934#32
  | 127 => 0x3EE273AA#32
  | _ => 0#32

noncomputable abbrev lit1t0_48 (i : Nat) : BitVec 32 := match i % 128 with
  | 0 => 0x80000000#32
  | 1 => 0xBEE273AA#32
  | 2 => 0xBF4B1934#32
  | 3 => 0xBF7B14BE#32
  | 4 => 0xBF7746EA#32
  | 5 => 0xBF407893#32
  | 6 => 0xBEC3EF15#32
  | 7 => 0x3D85F213#32
  | 8 => 0x3F000000#32
  | 9 => 0x3F54DB31#32
  | 10 => 0x3F7DCF55#32
  | 11 => 0x3F726A03#32
  | 12 => 0x3F3504F3#32
  | 13 => 0x3EA493B7#32
  | 14 => 0xBE05A8A8#32
  | 15 => 0xBF0E39DA#32
  | 16 => 0xBF5DB3D7#32
  | 17 => 0xBF7F73AF#32
  | 18 => 0xBF6C835E#32
  | 19 => 0xBF28CAE3#32
  | 20 => 0xBE8483EE#32
  | 21 => 0x3E47C5C2#32
  | 22 => 0x3F1BD7CA#32
  | 23 => 0x3F659974#32
  | 24 => 0x3F800000#32
  | 25 => 0x3F659974#32
  | 26 => 0x3F1BD7CA#32
  | 27 => 0x3E47C5C2#32
  | 28 => 0xBE8483EE#32
  | 29 => 0xBF28CAE3#32
  | 30 => 0xBF6C835E#32
  | 31 => 0xBF7F73AF#32
  | 32 => 0xBF5DB3D7#32
  | 33 => 0xBF0E39DA#32
  | 34 => 0xBE05A8A8#32
  | 35 => 0x3EA493B7#32
  | 36 => 0x3F3504F3#32
  | 37 => 0x3F726A03#32
  | 38 => 0x3F7DCF55#32
  | 39 => 0x3F54DB31#32
  | 40 => 0x3F000000#32
  | 41 => 0x3D85F213#32
  | 42 => 0xBEC3EF15#32
  | 43 => 0xBF407893#32
  | 44 => 0xBF7746EA#32
  | 45 => 0xBF7B14BE#32
  | 46 => 0xBF4B1934#32
  | 47 => 0xBEE273AA#32
  | 48 => 0xA50D3132#32
  | 49 => 0x3EE273AA#32
  | 50 => 0x3F4B1934#32
  | 51 => 0x3F7B14BE#32
  | 52 => 0x3F7746EA#32
  | 53 => 0x3F407893#32
  | 54 => 0x3EC3EF15#32
  | 55 => 0xBD85F213#32
  | 56 => 0xBF000000#32
  | 57 => 0xBF54DB31#32
  | 58 => 0xBF7DCF55#32
  | 59 => 0xBF726A03#32
  | 60 => 0xBF3504F3#32
  | 61 => 0xBEA493B7#32
  | 62 => 0x3E05A8A8#32
  | 63 => 0x3F0E39DA#32
  | 64 => 0x3F5DB3D7#32
  | 65 => 0x3F7F73AF#32
  | 66 => 0x3F6C835E#32
  | 67 => 0x3F28CAE3#32
  | 68 => 0x3E8483EE#32
  | 69 => 0xBE47C5C2#32
  | 70 => 0xBF1BD7CA#32
  | 71 => 0xBF659974#32
  | 72 => 0xBF800000#32
  | 73 => 0xBF659974#32
  | 74 => 0xBF1BD7CA#32
  | 75 => 0xBE47C5C2#32
  | 76 => 0x3E8483EE#32
  | 77 => 0x3F28CAE3#32
  | 78 => 0x3F6C835E#32
  | 79 => 0x3F7F73AF#32
  | 80 => 0x3F5DB3D7#32
  | 81 => 0x3F0E39DA#32
  | 82 => 0x3E05A8A8#32
  | 83 => 0xBEA493B7#32
  | 84 => 0xBF3504F3#32
  | 85 => 0xBF726A03#32
  | 86 => 0xBF7DCF55#32
  | 87 => 0xBF54DB31#32
  | 88 => 0xBF000000#32
  | 89 => 0xBD85F213#32
  | 90 => 0x3EC3EF15#32
  | 91 => 0x3F407893#32
  | 92 => 0x3F7746EA#32
  | 93 => 0x3F7B14BE#32
  | 94 => 0x3F4B1934#32
  | 95 => 0x3EE273AA#32
  | 96 => 0x80000000#32
  | 97 => 0xBEE273AA#32
  | 98 => 0xBF4B1934#32
  | 99 => 0xBF7B14BE#32
  | 100 => 0xBF7746EA#32
  | 101 => 0xBF407893#32
  | 102 => 0xBEC3EF15#32
  | 103 => 0x3D85F213#32
  | 104 => 0x3F000000#32
  | 105 => 0x3F54DB31#32
  | 106 => 0x3F7DCF55#32
  | 107 => 0x3F726A03#32
  | 108 => 0x3F3504F3#32
  | 109 => 0x3EA493B7#32
  | 110 => 0xBE05A8A8#32
  | 111 => 0xBF0E39DA#32
  | 112 => 0xBF5DB3D7#32
  | 113 => 0xBF7F73AF#32
  | 114 => 0xBF6C835E#32
  | 115 => 0xBF28CAE3#32
  | 116 => 0xBE8483EE#32
  | 117 => 0x3E47C5C2#32
  | 118 => 0x3F1BD7CA#32
  | 119 => 0x3F659974#32
  | 120 => 0x3F800000#32
  | 121 => 0x3F659974#32
  | 122 => 0x3F1BD7CA#32
  | 123 => 0x3E47C5C2#32
  | 124 => 0xBE8483EE#32
  | 125 => 0xBF28CAE3#32
  | 126 => 0xBF6C835E#32
  | 127 => 0xBF7F73AF#32
  | _ => 0#32

noncomputable abbrev lit1t0_49 (i : Nat) : BitVec 32 := match i % 128 with
  | 0 => 0xBF5DB3D7#32
  | 1 => 0xBF0E39DA#32
  | 2 => 0xBE05A8A8#32
  | 3 => 0x3EA493B7#32
  | 4 => 0x3F3504F3#32
  | 5 => 0x3F726A03#32
  | 6 => 0x3F7DCF55#32
  | 7 => 0x3F54DB31#32
  | 8 => 0x3F000000#32
  | 9 => 0x3D85F213#32
  | 10 => 0xBEC3EF15#32
  | 11 => 0xBF407893#32
  | 12 => 0xBF7746EA#32
  | 13 => 0xBF7B14BE#32
  | 14 => 0xBF4B1934#32
  | 15 => 0xBEE273AA#32
  | 16 => 0xA50D3132#32
  | 17 => 0x3EE273AA#32
  | 18 => 0x3F4B1934#32
  | 19 => 0x3F7B14BE#32
  | 20 => 0x3F7746EA#32
  | 21 => 0x3F407893#32
  | 22 => 0x3EC3EF15#32
  | 23 => 0xBD85F213#32
  | 24 => 0xBF000000#32
  | 25 => 0xBF54DB31#32
  | 26 => 0xBF7DCF55#32
  | 27 => 0xBF726A03#32
  | 28 => 0xBF3504F3#32
  | 29 => 0xBEA493B7#32
  | 30 => 0x3E05A8A8#32
  | 31 => 0x3F0E39DA#32
  | 32 => 0x3F5DB3D7#32
  | 33 => 0x3F7F73AF#32
  | 34 => 0x3F6C835E#32
  | 35 => 0x3F28CAE3#32
  | 36 => 0x3E8483EE#32
  | 37 => 0xBE47C5C2#32
  | 38 => 0xBF1BD7CA#32
  | 39 => 0xBF659974#32
  | 40 => 0xBF800000#32
  | 41 => 0xBF659974#32
  | 42 => 0xBF1BD7CA#32
  | 43 => 0xBE47C5C2#32
  | 44 => 0x3E8483EE#32
  | 45 => 0x3F28CAE3#32
  | 46 => 0x3F6C835E#32
  | 47 => 0x3F7F73AF#32
  | 48 => 0x3F5DB3D7#32
  | 49 => 0x3F0E39DA#32
  | 50 => 0x3E05A8A8#32
  | 51 => 0xBEA493B7#32
  | 52 => 0xBF3504F3#32
  | 53 => 0xBF726A03#32
  | 54 => 0xBF7DCF55#32
  | 55 => 0xBF54DB31#32
  | 56 => 0xBF000000#32
  | 57 => 0xBD85F213#32
  | 58 => 0x3EC3EF15#32
  | 59 => 0x3F407893#32
  | 60 => 0x3F7746EA#32
  | 61 => 0x3F7B14BE#32
  | 62 => 0x3F4B1934#32
  | 63 => 0x3EE273AA#32
  | 64 => 0x80000000#32
  | 65 => 0xBEEC6A50#32
  | 66 => 0xBF51B3F3#32
  | 67 => 0xBF7DCF55#32
  | 68 => 0xBF708FB2#32
  | 69 => 0xBF2CF37B#32
  | 70 => 0xBE8483EE#32
  | 71 => 0x3E5DA259#32
  | 72 => 0x3F248DBB#32
  | 73 => 0x3F6C835E#32
  | 74 => 0x3F7F069E#32
  | 75 => 0x3F57E880#32
  | 76 => 0x3F000000#32
  | 77 => 0x3D32AA3E#32
  | 78 => 0xBED8616C#32
  | 79 => 0xBF4B1934#32
  | 80 => 0xBF7C1C5C#32
  | 81 => 0xBF7426CB#32
  | 82 => 0xBF3504F3#32
  | 83 => 0xBE99F61C#32
  | 84 => 0x3E31D0D4#32
  | 85 => 0x3F1BD7CA#32
  | 86 => 0x3F6803CA#32
  | 87 => 0x3F7FC1A0#32
  | 88 => 0x3F5DB3D7#32
  | 89 => 0x3F098C78#32
  | 90 => 0x3DB27EB6#32
  | 91 => 0xBEC3EF15#32
  | 92 => 0xBF441B7D#32
  | 93 => 0xBF79EE89#32
  | 94 => 0xBF7746EA#32
  | 95 => 0xBF3CBE35#32
  | 96 => 0xBEAF1D44#32
  | 97 => 0x3E05A8A8#32
  | 98 => 0x3F12D5E8#32
  | 99 => 0x3F631324#32
  | 100 => 0x3F800000#32
  | 101 => 0x3F631324#32
  | 102 => 0x3F12D5E8#32
  | 103 => 0x3E05A8A8#32
  | 104 => 0xBEAF1D44#32
  | 105 => 0xBF3CBE35#32
  | 106 => 0xBF7746EA#32
  | 107 => 0xBF79EE89#32
  | 108 => 0xBF441B7D#32
  | 109 => 0xBEC3EF15#32
  | 110 => 0x3DB27EB6#32
  | 111 => 0x3F098C78#32
  | 112 => 0x3F5DB3D7#32
  | 113 => 0x3F7FC1A0#32
  | 114 => 0x3F6803CA#32
  | 115 => 0x3F1BD7CA#32
  | 116 => 0x3E31D0D4#32
  | 117 => 0xBE99F61C#32
  | 118 => 0xBF3504F3#32
  | 119 => 0xBF7426CB#32
  | 120 => 0xBF7C1C5C#32
  | 121 => 0xBF4B1934#32
  | 122 => 0xBED8616C#32
  | 123 => 0x3D32AA3E#32
  | 124 => 0x3F000000#32
  | 125 => 0x3F57E880#32
  | 126 => 0x3F7F069E#32
  | 127 => 0x3F6C835E#32
  | _ => 0#32

noncomputable abbrev lit1t0_50 (i : Nat) : BitVec 32 := match i % 128 with
  | 0 => 0x3F248DBB#32
  | 1 => 0x3E5DA259#32
  | 2 => 0xBE8483EE#32
  | 3 => 0xBF2CF37B#32
  | 4 => 0xBF708FB2#32
  | 5 => 0xBF7DCF55#32
  | 6 => 0xBF51B3F3#32
  | 7 => 0xBEEC6A50#32
  | 8 => 0xA50D3132#32
  | 9 => 0x3EEC6A50#32
  | 10 => 0x3F51B3F3#32
  | 11 => 0x3F7DCF55#32
  | 12 => 0x3F708FB2#32
  | 13 => 0x3F2CF37B#32
  | 14 => 0x3E8483EE#32
  | 15 => 0xBE5DA259#32
  | 16 => 0xBF248DBB#32
  | 17 => 0xBF6C835E#32
  | 18 => 0xBF7F069E#32
  | 19 => 0xBF57E880#32
  | 20 => 0xBF000000#32
  | 21 => 0xBD32AA3E#32
  | 22 => 0x3ED8616C#32
  | 23 => 0x3F4B1934#32
  | 24 => 0x3F7C1C5C#32
  | 25 => 0x3F7426CB#32
  | 26 => 0x3F3504F3#32
  | 27 => 0x3E99F61C#32
  | 28 => 0xBE31D0D4#32
  | 29 => 0xBF1BD7CA#32
  | 30 => 0xBF6803CA#32
  | 31 => 0xBF7FC1A0#32
  | 32 => 0xBF5DB3D7#32
  | 33 => 0xBF098C78#32
  | 34 => 0xBDB27EB6#32
  | 35 => 0x3EC3EF15#32
  | 36 => 0x3F441B7D#32
  | 37 => 0x3F79EE89#32
  | 38 => 0x3F7746EA#32
  | 39 => 0x3F3CBE35#32
  | 40 => 0x3EAF1D44#32
  | 41 => 0xBE05A8A8#32
  | 42 => 0xBF12D5E8#32
  | 43 => 0xBF631324#32
  | 44 => 0xBF800000#32
  | 45 => 0xBF631324#32
  | 46 => 0xBF12D5E8#32
  | 47 => 0xBE05A8A8#32
  | 48 => 0x3EAF1D44#32
  | 49 => 0x3F3CBE35#32
  | 50 => 0x3F7746EA#32
  | 51 => 0x3F79EE89#32
  | 52 => 0x3F441B7D#32
  | 53 => 0x3EC3EF15#32
  | 54 => 0xBDB27EB6#32
  | 55 => 0xBF098C78#32
  | 56 => 0xBF5DB3D7#32
  | 57 => 0xBF7FC1A0#32
  | 58 => 0xBF6803CA#32
  | 59 => 0xBF1BD7CA#32
  | 60 => 0xBE31D0D4#32
  | 61 => 0x3E99F61C#32
  | 62 => 0x3F3504F3#32
  | 63 => 0x3F7426CB#32
  | 64 => 0x3F7C1C5C#32
  | 65 => 0x3F4B1934#32
  | 66 => 0x3ED8616C#32
  | 67 => 0xBD32AA3E#32
  | 68 => 0xBF000000#32
  | 69 => 0xBF57E880#32
  | 70 => 0xBF7F069E#32
  | 71 => 0xBF6C835E#32
  | 72 => 0xBF248DBB#32
  | 73 => 0xBE5DA259#32
  | 74 => 0x3E8483EE#32
  | 75 => 0x3F2CF37B#32
  | 76 => 0x3F708FB2#32
  | 77 => 0x3F7DCF55#32
  | 78 => 0x3F51B3F3#32
  | 79 => 0x3EEC6A50#32
  | 80 => 0x80000000#32
  | 81 => 0xBEEC6A50#32
  | 82 => 0xBF51B3F3#32
  | 83 => 0xBF7DCF55#32
  | 84 => 0xBF708FB2#32
  | 85 => 0xBF2CF37B#32
  | 86 => 0xBE8483EE#32
  | 87 => 0x3E5DA259#32
  | 88 => 0x3F248DBB#32
  | 89 => 0x3F6C835E#32
  | 90 => 0x3F7F069E#32
  | 91 => 0x3F57E880#32
  | 92 => 0x3F000000#32
  | 93 => 0x3D32AA3E#32
  | 94 => 0xBED8616C#32
  | 95 => 0xBF4B1934#32
  | 96 => 0xBF7C1C5C#32
  | 97 => 0xBF7426CB#32
  | 98 => 0xBF3504F3#32
  | 99 => 0xBE99F61C#32
  | 100 => 0x3E31D0D4#32
  | 101 => 0x3F1BD7CA#32
  | 102 => 0x3F6803CA#32
  | 103 => 0x3F7FC1A0#32
  | 104 => 0x3F5DB3D7#32
  | 105 => 0x3F098C78#32
  | 106 => 0x3DB27EB6#32
  | 107 => 0xBEC3EF15#32
  | 108 => 0xBF441B7D#32
  | 109 => 0xBF79EE89#32
  | 110 => 0xBF7746EA#32
  | 111 => 0xBF3CBE35#32
  | 112 => 0xBEAF1D44#32
  | 113 => 0x3E05A8A8#32
  | 114 => 0x3F12D5E8#32
  | 115 => 0x3F631324#32
  | 116 => 0x3F800000#32
  | 117 => 0x3F631324#32
  | 118 => 0x3F12D5E8#32
  | 119 => 0x3E05A8A8#32
  | 120 => 0xBEAF1D44#32
  | 121 => 0xBF3CBE35#32
  | 122 => 0xBF7746EA#32
  | 123 => 0xBF79EE89#32
  | 124 => 0xBF441B7D#32
  | 125 => 0xBEC3EF15#32
  | 126 => 0x3DB27EB6#32
  | 127 => 0x3F098C78#32
  | _ => 0#32

noncomputable abbrev lit1t0_51 (i : Nat) : BitVec 32 := match i % 128 with
  | 0 => 0x3F5DB3D7#32
  | 1 => 0x3F7FC1A0#32
  | 2 => 0x3F6803CA#32
  | 3 => 0x3F1BD7CA#32
  | 4 => 0x3E31D0D4#32
  | 5 => 0xBE99F61C#32
  | 6 => 0xBF3504F3#32
  | 7 => 0xBF7426CB#32
  | 8 => 0xBF7C1C5C#32
  | 9 => 0xBF4B1934#32
  | 10 => 0xBED8616C#32
  | 11 => 0x3D32AA3E#32
  | 12 => 0x3F000000#32
  | 13 => 0x3F57E880#32
  | 14 => 0x3F7F069E#32
  | 15 => 0x3F6C835E#32
  | 16 => 0x3F248DBB#32
  | 17 => 0x3E5DA259#32
  | 18 => 0xBE8483EE#32
  | 19 => 0xBF2CF37B#32
  | 20 => 0xBF708FB2#32
  | 21 => 0xBF7DCF55#32
  | 22 => 0xBF51B3F3#32
  | 23 => 0xBEEC6A50#32
  | 24 => 0xA50D3132#32
  | 25 => 0x3EEC6A50#32
  | 26 => 0x3F51B3F3#32
  | 27 => 0x3F7DCF55#32
  | 28 => 0x3F708FB2#32
  | 29 => 0x3F2CF37B#32
  | 30 => 0x3E8483EE#32
  | 31 => 0xBE5DA259#32
  | 32 => 0xBF248DBB#32
  | 33 => 0xBF6C835E#32
  | 34 => 0xBF7F069E#32
  | 35 => 0xBF57E880#32
  | 36 => 0xBF000000#32
  | 37 => 0xBD32AA3E#32
  | 38 => 0x3ED8616C#32
  | 39 => 0x3F4B1934#32
  | 40 => 0x3F7C1C5C#32
  | 41 => 0x3F7426CB#32
  | 42 => 0x3F3504F3#32
  | 43 => 0x3E99F61C#32
  | 44 => 0xBE31D0D4#32
  | 45 => 0xBF1BD7CA#32
  | 46 => 0xBF6803CA#32
  | 47 => 0xBF7FC1A0#32
  | 48 => 0xBF5DB3D7#32
  | 49 => 0xBF098C78#32
  | 50 => 0xBDB27EB6#32
  | 51 => 0x3EC3EF15#32
  | 52 => 0x3F441B7D#32
  | 53 => 0x3F79EE89#32
  | 54 => 0x3F7746EA#32
  | 55 => 0x3F3CBE35#32
  | 56 => 0x3EAF1D44#32
  | 57 => 0xBE05A8A8#32
  | 58 => 0xBF12D5E8#32
  | 59 => 0xBF631324#32
  | 60 => 0xBF800000#32
  | 61 => 0xBF631324#32
  | 62 => 0xBF12D5E8#32
  | 63 => 0xBE05A8A8#32
  | 64 => 0x3EAF1D44#32
  | 65 => 0x3F3CBE35#32
  | 66 => 0x3F7746EA#32
  | 67 => 0x3F79EE89#32
  | 68 => 0x3F441B7D#32
  | 69 => 0x3EC3EF15#32
  | 70 => 0xBDB27EB6#32
  | 71 => 0xBF098C78#32
  | 72 => 0xBF5DB3D7#32
  | 73 => 0xBF7FC1A0#32
  | 74 => 0xBF6803CA#32
  | 75 => 0xBF1BD7CA#32
  | 76 => 0xBE31D0D4#32
  | 77 => 0x3E99F61C#32
  | 78 => 0x3F3504F3#32
  | 79 => 0x3F7426CB#32
  | 80 => 0x3F7C1C5C#32
  | 81 => 0x3F4B1934#32
  | 82 => 0x3ED8616C#32
  | 83 => 0xBD32AA3E#32
  | 84 => 0xBF000000#32
  | 85 => 0xBF57E880#32
  | 86 => 0xBF7F069E#32
  | 87 => 0xBF6C835E#32
  | 88 => 0xBF248DBB#32
  | 89 => 0xBE5DA259#32
  | 90 => 0x3E8483EE#32
  | 91 => 0x3F2CF37B#32
  | 92 => 0x3F708FB2#32
  | 93 => 0x3F7DCF55#32
  | 94 => 0x3F51B3F3#32
  | 95 => 0x3EEC6A50#32
  | 96 => 0x80000000#32
  | 97 => 0xBEF64429#32
  | 98 => 0xBF57E880#32
  | 99 => 0xBF7F73AF#32
  | 100 => 0xBF6803CA#32
  | 101 => 0xBF176012#32
  | 102 => 0xBE05A8A8#32
  | 103 => 0x3EB9917B#32
  | 104 => 0x3F441B7D#32
  | 105 => 0x3F7B14BE#32
  | 106 => 0x3F7426CB#32
  | 107 => 0x3F310700#32
  | 108 => 0x3E8483EE#32
  | 109 => 0xBE7363EE#32
  | 110 => 0xBF2CF37B#32
  | 111 => 0xBF726A03#32
  | 112 => 0xBF7C1C5C#32
  | 113 => 0xBF47A682#32
  | 114 => 0xBEC3EF15#32
  | 115 => 0x3DDEF599#32
  | 116 => 0x3F12D5E8#32
  | 117 => 0x3F659974#32
  | 118 => 0x3F7FC1A0#32
  | 119 => 0x3F5ADB81#32
  | 120 => 0x3F000000#32
  | 121 => 0x3CB2B521#32
  | 122 => 0xBEEC6A50#32
  | 123 => 0xBF54DB31#32
  | 124 => 0xBF7F069E#32
  | 125 => 0xBF6A51DA#32
  | 126 => 0xBF1BD7CA#32
  | 127 => 0xBE1BC63C#32
  | _ => 0#32

noncomputable abbrev lit1t0_52 (i : Nat) : BitVec 32 := match i % 128 with
  | 0 => 0x3EAF1D44#32
  | 1 => 0x3F407893#32
  | 2 => 0x3F79EE89#32
  | 3 => 0x3F75C5D4#32
  | 4 => 0x3F3504F3#32
  | 5 => 0x3E8F45C0#32
  | 6 => 0xBE5DA259#32
  | 7 => 0xBF28CAE3#32
  | 8 => 0xBF708FB2#32
  | 9 => 0xBF7D0543#32
  | 10 => 0xBF4B1934#32
  | 11 => 0xBECE34D0#32
  | 12 => 0x3DB27EB6#32
  | 13 => 0x3F0E39DA#32
  | 14 => 0x3F631324#32
  | 15 => 0x3F7FF067#32
  | 16 => 0x3F5DB3D7#32
  | 17 => 0x3F04CE53#32
  | 18 => 0x3D32AA3E#32
  | 19 => 0xBEE273AA#32
  | 20 => 0xBF51B3F3#32
  | 21 => 0xBF7E7A7A#32
  | 22 => 0xBF6C835E#32
  | 23 => 0xBF203C85#32
  | 24 => 0xBE31D0D4#32
  | 25 => 0x3EA493B7#32
  | 26 => 0x3F3CBE35#32
  | 27 => 0x3F78A9E0#32
  | 28 => 0x3F7746EA#32
  | 29 => 0x3F38ECD8#32
  | 30 => 0x3E99F61C#32
  | 31 => 0xBE47C5C2#32
  | 32 => 0xBF248DBB#32
  | 33 => 0xBF6E9811#32
  | 34 => 0xBF7DCF55#32
  | 35 => 0xBF4E7327#32
  | 36 => 0xBED8616C#32
  | 37 => 0x3D85F213#32
  | 38 => 0x3F098C78#32
  | 39 => 0x3F60712A#32
  | 40 => 0x3F800000#32
  | 41 => 0x3F60712A#32
  | 42 => 0x3F098C78#32
  | 43 => 0x3D85F213#32
  | 44 => 0xBED8616C#32
  | 45 => 0xBF4E7327#32
  | 46 => 0xBF7DCF55#32
  | 47 => 0xBF6E9811#32
  | 48 => 0xBF248DBB#32
  | 49 => 0xBE47C5C2#32
  | 50 => 0x3E99F61C#32
  | 51 => 0x3F38ECD8#32
  | 52 => 0x3F7746EA#32
  | 53 => 0x3F78A9E0#32
  | 54 => 0x3F3CBE35#32
  | 55 => 0x3EA493B7#32
  | 56 => 0xBE31D0D4#32
  | 57 => 0xBF203C85#32
  | 58 => 0xBF6C835E#32
  | 59 => 0xBF7E7A7A#32
  | 60 => 0xBF51B3F3#32
  | 61 => 0xBEE273AA#32
  | 62 => 0x3D32AA3E#32
  | 63 => 0x3F04CE53#32
  | 64 => 0x3F5DB3D7#32
  | 65 => 0x3F7FF067#32
  | 66 => 0x3F631324#32
  | 67 => 0x3F0E39DA#32
  | 68 => 0x3DB27EB6#32
  | 69 => 0xBECE34D0#32
  | 70 => 0xBF4B1934#32
  | 71 => 0xBF7D0543#32
  | 72 => 0xBF708FB2#32
  | 73 => 0xBF28CAE3#32
  | 74 => 0xBE5DA259#32
  | 75 => 0x3E8F45C0#32
  | 76 => 0x3F3504F3#32
  | 77 => 0x3F75C5D4#32
  | 78 => 0x3F79EE89#32
  | 79 => 0x3F407893#32
  | 80 => 0x3EAF1D44#32
  | 81 => 0xBE1BC63C#32
  | 82 => 0xBF1BD7CA#32
  | 83 => 0xBF6A51DA#32
  | 84 => 0xBF7F069E#32
  | 85 => 0xBF54DB31#32
  | 86 => 0xBEEC6A50#32
  | 87 => 0x3CB2B521#32
  | 88 => 0x3F000000#32
  | 89 => 0x3F5ADB81#32
  | 90 => 0x3F7FC1A0#32
  | 91 => 0x3F659974#32
  | 92 => 0x3F12D5E8#32
  | 93 => 0x3DDEF599#32
  | 94 => 0xBEC3EF15#32
  | 95 => 0xBF47A682#32
  | 96 => 0xBF7C1C5C#32
  | 97 => 0xBF726A03#32
  | 98 => 0xBF2CF37B#32
  | 99 => 0xBE7363EE#32
  | 100 => 0x3E8483EE#32
  | 101 => 0x3F310700#32
  | 102 => 0x3F7426CB#32
  | 103 => 0x3F7B14BE#32
  | 104 => 0x3F441B7D#32
  | 105 => 0x3EB9917B#32
  | 106 => 0xBE05A8A8#32
  | 107 => 0xBF176012#32
  | 108 => 0xBF6803CA#32
  | 109 => 0xBF7F73AF#32
  | 110 => 0xBF57E880#32
  | 111 => 0xBEF64429#32
  | 112 => 0xA50D3132#32
  | 113 => 0x3EF64429#32
  | 114 => 0x3F57E880#32
  | 115 => 0x3F7F73AF#32
  | 116 => 0x3F6803CA#32
  | 117 => 0x3F176012#32
  | 118 => 0x3E05A8A8#32
  | 119 => 0xBEB9917B#32
  | 120 => 0xBF441B7D#32
  | 121 => 0xBF7B14BE#32
  | 122 => 0xBF7426CB#32
  | 123 => 0xBF310700#32
  | 124 => 0xBE8483EE#32
  | 125 => 0x3E7363EE#32
  | 126 => 0x3F2CF37B#32
  | 127 => 0x3F726A03#32
  | _ => 0#32

noncomputable abbrev lit1t0_53 (i : Nat) : BitVec 32 := match i % 128 with
  | 0 => 0x3F7C1C5C#32
  | 1 => 0x3F47A682#32
  | 2 => 0x3EC3EF15#32
  | 3 => 0xBDDEF599#32
  | 4 => 0xBF12D5E8#32
  | 5 => 0xBF659974#32
  | 6 => 0xBF7FC1A0#32
  | 7 => 0xBF5ADB81#32
  | 8 => 0xBF000000#32
  | 9 => 0xBCB2B521#32
  | 10 => 0x3EEC6A50#32
  | 11 => 0x3F54DB31#32
  | 12 => 0x3F7F069E#32
  | 13 => 0x3F6A51DA#32
  | 14 => 0x3F1BD7CA#32
  | 15 => 0x3E1BC63C#32
  | 16 => 0xBEAF1D44#32
  | 17 => 0xBF407893#32
  | 18 => 0xBF79EE89#32
  | 19 => 0xBF75C5D4#32
  | 20 => 0xBF3504F3#32
  | 21 => 0xBE8F45C0#32
  | 22 => 0x3E5DA259#32
  | 23 => 0x3F28CAE3#32
  | 24 => 0x3F708FB2#32
  | 25 => 0x3F7D0543#32
  | 26 => 0x3F4B1934#32
  | 27 => 0x3ECE34D0#32
  | 28 => 0xBDB27EB6#32
  | 29 => 0xBF0E39DA#32
  | 30 => 0xBF631324#32
  | 31 => 0xBF7FF067#32
  | 32 => 0xBF5DB3D7#32
  | 33 => 0xBF04CE53#32
  | 34 => 0xBD32AA3E#32
  | 35 => 0x3EE273AA#32
  | 36 => 0x3F51B3F3#32
  | 37 => 0x3F7E7A7A#32
  | 38 => 0x3F6C835E#32
  | 39 => 0x3F203C85#32
  | 40 => 0x3E31D0D4#32
  | 41 => 0xBEA493B7#32
  | 42 => 0xBF3CBE35#32
  | 43 => 0xBF78A9E0#32
  | 44 => 0xBF7746EA#32
  | 45 => 0xBF38ECD8#32
  | 46 => 0xBE99F61C#32
  | 47 => 0x3E47C5C2#32
  | 48 => 0x3F248DBB#32
  | 49 => 0x3F6E9811#32
  | 50 => 0x3F7DCF55#32
  | 51 => 0x3F4E7327#32
  | 52 => 0x3ED8616C#32
  | 53 => 0xBD85F213#32
  | 54 => 0xBF098C78#32
  | 55 => 0xBF60712A#32
  | 56 => 0xBF800000#32
  | 57 => 0xBF60712A#32
  | 58 => 0xBF098C78#32
  | 59 => 0xBD85F213#32
  | 60 => 0x3ED8616C#32
  | 61 => 0x3F4E7327#32
  | 62 => 0x3F7DCF55#32
  | 63 => 0x3F6E9811#32
  | 64 => 0x3F248DBB#32
  | 65 => 0x3E47C5C2#32
  | 66 => 0xBE99F61C#32
  | 67 => 0xBF38ECD8#32
  | 68 => 0xBF7746EA#32
  | 69 => 0xBF78A9E0#32
  | 70 => 0xBF3CBE35#32
  | 71 => 0xBEA493B7#32
  | 72 => 0x3E31D0D4#32
  | 73 => 0x3F203C85#32
  | 74 => 0x3F6C835E#32
  | 75 => 0x3F7E7A7A#32
  | 76 => 0x3F51B3F3#32
  | 77 => 0x3EE273AA#32
  | 78 => 0xBD32AA3E#32
  | 79 => 0xBF04CE53#32
  | 80 => 0xBF5DB3D7#32
  | 81 => 0xBF7FF067#32
  | 82 => 0xBF631324#32
  | 83 => 0xBF0E39DA#32
  | 84 => 0xBDB27EB6#32
  | 85 => 0x3ECE34D0#32
  | 86 => 0x3F4B1934#32
  | 87 => 0x3F7D0543#32
  | 88 => 0x3F708FB2#32
  | 89 => 0x3F28CAE3#32
  | 90 => 0x3E5DA259#32
  | 91 => 0xBE8F45C0#32
  | 92 => 0xBF3504F3#32
  | 93 => 0xBF75C5D4#32
  | 94 => 0xBF79EE89#32
  | 95 => 0xBF407893#32
  | 96 => 0xBEAF1D44#32
  | 97 => 0x3E1BC63C#32
  | 98 => 0x3F1BD7CA#32
  | 99 => 0x3F6A51DA#32
  | 100 => 0x3F7F069E#32
  | 101 => 0x3F54DB31#32
  | 102 => 0x3EEC6A50#32
  | 103 => 0xBCB2B521#32
  | 104 => 0xBF000000#32
  | 105 => 0xBF5ADB81#32
  | 106 => 0xBF7FC1A0#32
  | 107 => 0xBF659974#32
  | 108 => 0xBF12D5E8#32
  | 109 => 0xBDDEF599#32
  | 110 => 0x3EC3EF15#32
  | 111 => 0x3F47A682#32
  | 112 => 0x3F7C1C5C#32
  | 113 => 0x3F726A03#32
  | 114 => 0x3F2CF37B#32
  | 115 => 0x3E7363EE#32
  | 116 => 0xBE8483EE#32
  | 117 => 0xBF310700#32
  | 118 => 0xBF7426CB#32
  | 119 => 0xBF7B14BE#32
  | 120 => 0xBF441B7D#32
  | 121 => 0xBEB9917B#32
  | 122 => 0x3E05A8A8#32
  | 123 => 0x3F176012#32
  | 124 => 0x3F6803CA#32
  | 125 => 0x3F7F73AF#32
  | 126 => 0x3F57E880#32
  | 127 => 0x3EF64429#32
  | _ => 0#32

noncomputable abbrev lit1t0_54 (i : Nat) : BitVec 32 := match i % 128 with
  | 0 => 0x80000000#32
  | 1 => 0xBF000000#32
  | 2 => 0xBF5DB3D7#32
  | 3 => 0xBF800000#32
  | 4 => 0xBF5DB3D7#32
  | 5 => 0xBF000000#32
  | 6 => 0xA50D3132#32
  | 7 => 0x3F000000#32
  | 8 => 0x3F5DB3D7#32
  | 9 => 0x3F800000#32
  | 10 => 0x3F5DB3D7#32
  | 11 => 0x3F000000#32
  | 12 => 0x80000000#32
  | 13 => 0xBF000000#32
  | 14 => 0xBF5DB3D7#32
  | 15 => 0xBF800000#32
  | 16 => 0xBF5DB3D7#32
  | 17 => 0xBF000000#32
  | 18 => 0xA50D3132#32
  | 19 => 0x3F000000#32
  | 20 => 0x3F5DB3D7#32
  | 21 => 0x3F800000#32
  | 22 => 0x3F5DB3D7#32
  | 23 => 0x3F000000#32
  | 24 => 0x80000000#32
  | 25 => 0xBF000000#32
  | 26 => 0xBF5DB3D7#32
  | 27 => 0xBF800000#32
  | 28 => 0xBF5DB3D7#32
  | 29 => 0xBF000000#32
  | 30 => 0xA50D3132#32
  | 31 => 0x3F000000#32
  | 32 => 0x3F5DB3D7#32
  | 33 => 0x3F800000#32
  | 34 => 0x3F5DB3D7#32
  | 35 => 0x3F000000#32
  | 36 => 0x80000000#32
  | 37 => 0xBF000000#32
  | 38 => 0xBF5DB3D7#32
  | 39 => 0xBF800000#32
  | 40 => 0xBF5DB3D7#32
  | 41 => 0xBF000000#32
  | 42 => 0xA50D3132#32
  | 43 => 0x3F000000#32
  | 44 => 0x3F5DB3D7#32
  | 45 => 0x3F800000#32
  | 46 => 0x3F5DB3D7#32
  | 47 => 0x3F000000#32
  | 48 => 0x80000000#32
  | 49 => 0xBF000000#32
  | 50 => 0xBF5DB3D7#32
  | 51 => 0xBF800000#32
  | 52 => 0xBF5DB3D7#32
  | 53 => 0xBF000000#32
  | 54 => 0xA50D3132#32
  | 55 => 0x3F000000#32
  | 56 => 0x3F5DB3D7#32
  | 57 => 0x3F800000#32
  | 58 => 0x3F5DB3D7#32
  | 59 => 0x3F000000#32
  | 60 => 0x80000000#32
  | 61 => 0xBF000000#32
  | 62 => 0xBF5DB3D7#32
  | 63 => 0xBF800000#32
  | 64 => 0xBF5DB3D7#32
  | 65 => 0xBF000000#32
  | 66 => 0xA50D3132#32
  | 67 => 0x3F000000#32
  | 68 => 0x3F5DB3D7#32
  | 69 => 0x3F800000#32
  | 70 => 0x3F5DB3D7#32
  | 71 => 0x3F000000#32
  | 72 => 0x80000000#32
  | 73 => 0xBF000000#32
  | 74 => 0xBF5DB3D7#32
  | 75 => 0xBF800000#32
  | 76 => 0xBF5DB3D7#32
  | 77 => 0xBF000000#32
  | 78 => 0xA50D3132#32
  | 79 => 0x3F000000#32
  | 80 => 0x3F5DB3D7#32
  | 81 => 0x3F800000#32
  | 82 => 0x3F5DB3D7#32
  | 83 => 0x3F000000#32
  | 84 => 0x80000000#32
  | 85 => 0xBF000000#32
  | 86 => 0xBF5DB3D7#32
  | 87 => 0xBF800000#32
  | 88 => 0xBF5DB3D7#32
  | 89 => 0xBF000000#32
  | 90 => 0xA50D3132#32
  | 91 => 0x3F000000#32
  | 92 => 0x3F5DB3D7#32
  | 93 => 0x3F800000#32
  | 94 => 0x3F5DB3D7#32
  | 95 => 0x3F000000#32
  | 96 => 0x80000000#32
  | 97 => 0xBF000000#32
  | 98 => 0xBF5DB3D7#32
  | 99 => 0xBF800000#32
  | 100 => 0xBF5DB3D7#32
  | 101 => 0xBF000000#32
  | 102 => 0xA50D3132#32
  | 103 => 0x3F000000#32
  | 104 => 0x3F5DB3D7#32
  | 105 => 0x3F800000#32
  | 106 => 0x3F5DB3D7#32
  | 107 => 0x3F000000#32
  | 108 => 0x80000000#32
  | 109 => 0xBF000000#32
  | 110 => 0xBF5DB3D7#32
  | 111 => 0xBF800000#32
  | 112 => 0xBF5DB3D7#32
  | 113 => 0xBF000000#32
  | 114 => 0xA50D3132#32
  | 115 => 0x3F000000#32
  | 116 => 0x3F5DB3D7#32
  | 117 => 0x3F800000#32
  | 118 => 0x3F5DB3D7#32
  | 119 => 0x3F000000#32
  | 120 => 0x80000000#32
  | 121 => 0xBF000000#32
  | 122 => 0xBF5DB3D7#32
  | 123 => 0xBF800000#32
  | 124 => 0xBF5DB3D7#32
  | 125 => 0xBF000000#32
  | 126 => 0xA50D3132#32
  | 127 => 0x3F000000#32
  | _ => 0#32

noncomputable abbrev lit1t0_55 (i : Nat) : BitVec 32 := match i % 128 with
  | 0 => 0x3F5DB3D7#32
  | 1 => 0x3F800000#32
  | 2 => 0x3F5DB3D7#32
  | 3 => 0x3F000000#32
  | 4 => 0x80000000#32
  | 5 => 0xBF000000#32
  | 6 => 0xBF5DB3D7#32
  | 7 => 0xBF800000#32
  | 8 => 0xBF5DB3D7#32
  | 9 => 0xBF000000#32
  | 10 => 0xA50D3132#32
  | 11 => 0x3F000000#32
  | 12 => 0x3F5DB3D7#32
  | 13 => 0x3F800000#32
  | 14 => 0x3F5DB3D7#32
  | 15 => 0x3F000000#32
  | 16 => 0x80000000#32
  | 17 => 0xBF000000#32
  | 18 => 0xBF5DB3D7#32
  | 19 => 0xBF800000#32
  | 20 => 0xBF5DB3D7#32
  | 21 => 0xBF000000#32
  | 22 => 0xA50D3132#32
  | 23 => 0x3F000000#32
  | 24 => 0x3F5DB3D7#32
  | 25 => 0x3F800000#32
  | 26 => 0x3F5DB3D7#32
  | 27 => 0x3F000000#32
  | 28 => 0x80000000#32
  | 29 => 0xBF000000#32
  | 30 => 0xBF5DB3D7#32
  | 31 => 0xBF800000#32
  | 32 => 0xBF5DB3D7#32
  | 33 => 0xBF000000#32
  | 34 => 0xA50D3132#32
  | 35 => 0x3F000000#32
  | 36 => 0x3F5DB3D7#32
  | 37 => 0x3F800000#32
  | 38 => 0x3F5DB3D7#32
  | 39 => 0x3F000000#32
  | 40 => 0x80000000#32
  | 41 => 0xBF000000#32
  | 42 => 0xBF5DB3D7#32
  | 43 => 0xBF800000#32
  | 44 => 0xBF5DB3D7#32
  | 45 => 0xBF000000#32
  | 46 => 0xA50D3132#32
  | 47 => 0x3F000000#32
  | 48 => 0x3F5DB3D7#32
  | 49 => 0x3F800000#32
  | 50 => 0x3F5DB3D7#32
  | 51 => 0x3F000000#32
  | 52 => 0x80000000#32
  | 53 => 0xBF000000#32
  | 54 => 0xBF5DB3D7#32
  | 55 => 0xBF800000#32
  | 56 => 0xBF5DB3D7#32
  | 57 => 0xBF000000#32
  | 58 => 0xA50D3132#32
  | 59 => 0x3F000000#32
  | 60 => 0x3F5DB3D7#32
  | 61 => 0x3F800000#32
  | 62 => 0x3F5DB3D7#32
  | 63 => 0x3F000000#32
  | 64 => 0x80000000#32
  | 65 => 0xBF000000#32
  | 66 => 0xBF5DB3D7#32
  | 67 => 0xBF800000#32
  | 68 => 0xBF5DB3D7#32
  | 69 => 0xBF000000#32
  | 70 => 0xA50D3132#32
  | 71 => 0x3F000000#32
  | 72 => 0x3F5DB3D7#32
  | 73 => 0x3F800000#32
  | 74 => 0x3F5DB3D7#32
  | 75 => 0x3F000000#32
  | 76 => 0x80000000#32
  | 77 => 0xBF000000#32
  | 78 => 0xBF5DB3D7#32
  | 79 => 0xBF800000#32
  | 80 => 0xBF5DB3D7#32
  | 81 => 0xBF000000#32
  | 82 => 0xA50D3132#32
  | 83 => 0x3F000000#32
  | 84 => 0x3F5DB3D7#32
  | 85 => 0x3F800000#32
  | 86 => 0x3F5DB3D7#32
  | 87 => 0x3F000000#32
  | 88 => 0x80000000#32
  | 89 => 0xBF000000#32
  | 90 => 0xBF5DB3D7#32
  | 91 => 0xBF800000#32
  | 92 => 0xBF5DB3D7#32
  | 93 => 0xBF000000#32
  | 94 => 0xA50D3132#32
  | 95 => 0x3F000000#32
  | 96 => 0x3F5DB3D7#32
  | 97 => 0x3F800000#32
  | 98 => 0x3F5DB3D7#32
  | 99 => 0x3F000000#32
  | 100 => 0x80000000#32
  | 101 => 0xBF000000#32
  | 102 => 0xBF5DB3D7#32
  | 103 => 0xBF800000#32
  | 104 => 0xBF5DB3D7#32
  | 105 => 0xBF000000#32
  | 106 => 0xA50D3132#32
  | 107 => 0x3F000000#32
  | 108 => 0x3F5DB3D7#32
  | 109 => 0x3F800000#32
  | 110 => 0x3F5DB3D7#32
  | 111 => 0x3F000000#32
  | 112 => 0x80000000#32
  | 113 => 0xBF000000#32
  | 114 => 0xBF5DB3D7#32
  | 115 => 0xBF800000#32
  | 116 => 0xBF5DB3D7#32
  | 117 => 0xBF000000#32
  | 118 => 0xA50D3132#32
  | 119 => 0x3F000000#32
  | 120 => 0x3F5DB3D7#32
  | 121 => 0x3F800000#32
  | 122 => 0x3F5DB3D7#32
  | 123 => 0x3F000000#32
  | 124 => 0x80000000#32
  | 125 => 0xBF000000#32
  | 126 => 0xBF5DB3D7#32
  | 127 => 0xBF800000#32
  | _ => 0#32

noncomputable abbrev lit1t0_56 (i : Nat) : BitVec 32 := match i % 128 with
  | 0 => 0xBF5DB3D7#32
  | 1 => 0xBF000000#32
  | 2 => 0xA50D3132#32
  | 3 => 0x3F000000#32
  | 4 => 0x3F5DB3D7#32
  | 5 => 0x3F800000#32
  | 6 => 0x3F5DB3D7#32
  | 7 => 0x3F000000#32
  | 8 => 0x80000000#32
  | 9 => 0xBF000000#32
  | 10 => 0xBF5DB3D7#32
  | 11 => 0xBF800000#32
  | 12 => 0xBF5DB3D7#32
  | 13 => 0xBF000000#32
  | 14 => 0xA50D3132#32
  | 15 => 0x3F000000#32
  | 16 => 0x3F5DB3D7#32
  | 17 => 0x3F800000#32
  | 18 => 0x3F5DB3D7#32
  | 19 => 0x3F000000#32
  | 20 => 0x80000000#32
  | 21 => 0xBF000000#32
  | 22 => 0xBF5DB3D7#32
  | 23 => 0xBF800000#32
  | 24 => 0xBF5DB3D7#32
  | 25 => 0xBF000000#32
  | 26 => 0xA50D3132#32
  | 27 => 0x3F000000#32
  | 28 => 0x3F5DB3D7#32
  | 29 => 0x3F800000#32
  | 30 => 0x3F5DB3D7#32
  | 31 => 0x3F000000#32
  | 32 => 0x80000000#32
  | 33 => 0xBF04CE53#32
  | 34 => 0xBF631324#32
  | 35 => 0xBF7F73AF#32
  | 36 => 0xBF51B3F3#32
  | 37 => 0xBECE34D0#32
  | 38 => 0x3E05A8A8#32
  | 39 => 0x3F203C85#32
  | 40 => 0x3F708FB2#32
  | 41 => 0x3F7B14BE#32
  | 42 => 0x3F3CBE35#32
  | 43 => 0x3E8F45C0#32
  | 44 => 0xBE8483EE#32
  | 45 => 0xBF38ECD8#32
  | 46 => 0xBF79EE89#32
  | 47 => 0xBF726A03#32
  | 48 => 0xBF248DBB#32
  | 49 => 0xBE1BC63C#32
  | 50 => 0x3EC3EF15#32
  | 51 => 0x3F4E7327#32
  | 52 => 0x3F7F069E#32
  | 53 => 0x3F659974#32
  | 54 => 0x3F098C78#32
  | 55 => 0x3CB2B521#32
  | 56 => 0xBF000000#32
  | 57 => 0xBF60712A#32
  | 58 => 0xBF7FC1A0#32
  | 59 => 0xBF54DB31#32
  | 60 => 0xBED8616C#32
  | 61 => 0x3DDEF599#32
  | 62 => 0x3F1BD7CA#32
  | 63 => 0x3F6E9811#32
  | 64 => 0x3F7C1C5C#32
  | 65 => 0x3F407893#32
  | 66 => 0x3E99F61C#32
  | 67 => 0xBE7363EE#32
  | 68 => 0xBF3504F3#32
  | 69 => 0xBF78A9E0#32
  | 70 => 0xBF7426CB#32
  | 71 => 0xBF28CAE3#32
  | 72 => 0xBE31D0D4#32
  | 73 => 0x3EB9917B#32
  | 74 => 0x3F4B1934#32
  | 75 => 0x3F7E7A7A#32
  | 76 => 0x3F6803CA#32
  | 77 => 0x3F0E39DA#32
  | 78 => 0x3D32AA3E#32
  | 79 => 0xBEF64429#32
  | 80 => 0xBF5DB3D7#32
  | 81 => 0xBF7FF067#32
  | 82 => 0xBF57E880#32
  | 83 => 0xBEE273AA#32
  | 84 => 0x3DB27EB6#32
  | 85 => 0x3F176012#32
  | 86 => 0x3F6C835E#32
  | 87 => 0x3F7D0543#32
  | 88 => 0x3F441B7D#32
  | 89 => 0x3EA493B7#32
  | 90 => 0xBE5DA259#32
  | 91 => 0xBF310700#32
  | 92 => 0xBF7746EA#32
  | 93 => 0xBF75C5D4#32
  | 94 => 0xBF2CF37B#32
  | 95 => 0xBE47C5C2#32
  | 96 => 0x3EAF1D44#32
  | 97 => 0x3F47A682#32
  | 98 => 0x3F7DCF55#32
  | 99 => 0x3F6A51DA#32
  | 100 => 0x3F12D5E8#32
  | 101 => 0x3D85F213#32
  | 102 => 0xBEEC6A50#32
  | 103 => 0xBF5ADB81#32
  | 104 => 0xBF800000#32
  | 105 => 0xBF5ADB81#32
  | 106 => 0xBEEC6A50#32
  | 107 => 0x3D85F213#32
  | 108 => 0x3F12D5E8#32
  | 109 => 0x3F6A51DA#32
  | 110 => 0x3F7DCF55#32
  | 111 => 0x3F47A682#32
  | 112 => 0x3EAF1D44#32
  | 113 => 0xBE47C5C2#32
  | 114 => 0xBF2CF37B#32
  | 115 => 0xBF75C5D4#32
  | 116 => 0xBF7746EA#32
  | 117 => 0xBF310700#32
  | 118 => 0xBE5DA259#32
  | 119 => 0x3EA493B7#32
  | 120 => 0x3F441B7D#32
  | 121 => 0x3F7D0543#32
  | 122 => 0x3F6C835E#32
  | 123 => 0x3F176012#32
  | 124 => 0x3DB27EB6#32
  | 125 => 0xBEE273AA#32
  | 126 => 0xBF57E880#32
  | 127 => 0xBF7FF067#32
  | _ => 0#32

noncomputable abbrev lit1t0_57 (i : Nat) : BitVec 32 := match i % 128 with
  | 0 => 0xBF5DB3D7#32
  | 1 => 0xBEF64429#32
  | 2 => 0x3D32AA3E#32
  | 3 => 0x3F0E39DA#32
  | 4 => 0x3F6803CA#32
  | 5 => 0x3F7E7A7A#32
  | 6 => 0x3F4B1934#32
  | 7 => 0x3EB9917B#32
  | 8 => 0xBE31D0D4#32
  | 9 => 0xBF28CAE3#32
  | 10 => 0xBF7426CB#32
  | 11 => 0xBF78A9E0#32
  | 12 => 0xBF3504F3#32
  | 13 => 0xBE7363EE#32
  | 14 => 0x3E99F61C#32
  | 15 => 0x3F407893#32
  | 16 => 0x3F7C1C5C#32
  | 17 => 0x3F6E9811#32
  | 18 => 0x3F1BD7CA#32
  | 19 => 0x3DDEF599#32
  | 20 => 0xBED8616C#32
  | 21 => 0xBF54DB31#32
  | 22 => 0xBF7FC1A0#32
  | 23 => 0xBF60712A#32
  | 24 => 0xBF000000#32
  | 25 => 0x3CB2B521#32
  | 26 => 0x3F098C78#32
  | 27 => 0x3F659974#32
  | 28 => 0x3F7F069E#32
  | 29 => 0x3F4E7327#32
  | 30 => 0x3EC3EF15#32
  | 31 => 0xBE1BC63C#32
  | 32 => 0xBF248DBB#32
  | 33 => 0xBF726A03#32
  | 34 => 0xBF79EE89#32
  | 35 => 0xBF38ECD8#32
  | 36 => 0xBE8483EE#32
  | 37 => 0x3E8F45C0#32
  | 38 => 0x3F3CBE35#32
  | 39 => 0x3F7B14BE#32
  | 40 => 0x3F708FB2#32
  | 41 => 0x3F203C85#32
  | 42 => 0x3E05A8A8#32
  | 43 => 0xBECE34D0#32
  | 44 => 0xBF51B3F3#32
  | 45 => 0xBF7F73AF#32
  | 46 => 0xBF631324#32
  | 47 => 0xBF04CE53#32
  | 48 => 0xA50D3132#32
  | 49 => 0x3F04CE53#32
  | 50 => 0x3F631324#32
  | 51 => 0x3F7F73AF#32
  | 52 => 0x3F51B3F3#32
  | 53 => 0x3ECE34D0#32
  | 54 => 0xBE05A8A8#32
  | 55 => 0xBF203C85#32
  | 56 => 0xBF708FB2#32
  | 57 => 0xBF7B14BE#32
  | 58 => 0xBF3CBE35#32
  | 59 => 0xBE8F45C0#32
  | 60 => 0x3E8483EE#32
  | 61 => 0x3F38ECD8#32
  | 62 => 0x3F79EE89#32
  | 63 => 0x3F726A03#32
  | 64 => 0x3F248DBB#32
  | 65 => 0x3E1BC63C#32
  | 66 => 0xBEC3EF15#32
  | 67 => 0xBF4E7327#32
  | 68 => 0xBF7F069E#32
  | 69 => 0xBF659974#32
  | 70 => 0xBF098C78#32
  | 71 => 0xBCB2B521#32
  | 72 => 0x3F000000#32
  | 73 => 0x3F60712A#32
  | 74 => 0x3F7FC1A0#32
  | 75 => 0x3F54DB31#32
  | 76 => 0x3ED8616C#32
  | 77 => 0xBDDEF599#32
  | 78 => 0xBF1BD7CA#32
  | 79 => 0xBF6E9811#32
  | 80 => 0xBF7C1C5C#32
  | 81 => 0xBF407893#32
  | 82 => 0xBE99F61C#32
  | 83 => 0x3E7363EE#32
  | 84 => 0x3F3504F3#32
  | 85 => 0x3F78A9E0#32
  | 86 => 0x3F7426CB#32
  | 87 => 0x3F28CAE3#32
  | 88 => 0x3E31D0D4#32
  | 89 => 0xBEB9917B#32
  | 90 => 0xBF4B1934#32
  | 91 => 0xBF7E7A7A#32
  | 92 => 0xBF6803CA#32
  | 93 => 0xBF0E39DA#32
  | 94 => 0xBD32AA3E#32
  | 95 => 0x3EF64429#32
  | 96 => 0x3F5DB3D7#32
  | 97 => 0x3F7FF067#32
  | 98 => 0x3F57E880#32
  | 99 => 0x3EE273AA#32
  | 100 => 0xBDB27EB6#32
  | 101 => 0xBF176012#32
  | 102 => 0xBF6C835E#32
  | 103 => 0xBF7D0543#32
  | 104 => 0xBF441B7D#32
  | 105 => 0xBEA493B7#32
  | 106 => 0x3E5DA259#32
  | 107 => 0x3F310700#32
  | 108 => 0x3F7746EA#32
  | 109 => 0x3F75C5D4#32
  | 110 => 0x3F2CF37B#32
  | 111 => 0x3E47C5C2#32
  | 112 => 0xBEAF1D44#32
  | 113 => 0xBF47A682#32
  | 114 => 0xBF7DCF55#32
  | 115 => 0xBF6A51DA#32
  | 116 => 0xBF12D5E8#32
  | 117 => 0xBD85F213#32
  | 118 => 0x3EEC6A50#32
  | 119 => 0x3F5ADB81#32
  | 120 => 0x3F800000#32
  | 121 => 0x3F5ADB81#32
  | 122 => 0x3EEC6A50#32
  | 123 => 0xBD85F213#32
  | 124 => 0xBF12D5E8#32
  | 125 => 0xBF6A51DA#32
  | 126 => 0xBF7DCF55#32
  | 127 => 0xBF47A682#32
  | _ => 0#32

noncomputable abbrev lit1t0_58 (i : Nat) : BitVec 32 := match i % 128 with
  | 0 => 0xBEAF1D44#32
  | 1 => 0x3E47C5C2#32
  | 2 => 0x3F2CF37B#32
  | 3 => 0x3F75C5D4#32
  | 4 => 0x3F7746EA#32
  | 5 => 0x3F310700#32
  | 6 => 0x3E5DA259#32
  | 7 => 0xBEA493B7#32
  | 8 => 0xBF441B7D#32
  | 9 => 0xBF7D0543#32
  | 10 => 0xBF6C835E#32
  | 11 => 0xBF176012#32
  | 12 => 0xBDB27EB6#32
  | 13 => 0x3EE273AA#32
  | 14 => 0x3F57E880#32
  | 15 => 0x3F7FF067#32
  | 16 => 0x3F5DB3D7#32
  | 17 => 0x3EF64429#32
  | 18 => 0xBD32AA3E#32
  | 19 => 0xBF0E39DA#32
  | 20 => 0xBF6803CA#32
  | 21 => 0xBF7E7A7A#32
  | 22 => 0xBF4B1934#32
  | 23 => 0xBEB9917B#32
  | 24 => 0x3E31D0D4#32
  | 25 => 0x3F28CAE3#32
  | 26 => 0x3F7426CB#32
  | 27 => 0x3F78A9E0#32
  | 28 => 0x3F3504F3#32
  | 29 => 0x3E7363EE#32
  | 30 => 0xBE99F61C#32
  | 31 => 0xBF407893#32
  | 32 => 0xBF7C1C5C#32
  | 33 => 0xBF6E9811#32
  | 34 => 0xBF1BD7CA#32
  | 35 => 0xBDDEF599#32
  | 36 => 0x3ED8616C#32
  | 37 => 0x3F54DB31#32
  | 38 => 0x3F7FC1A0#32
  | 39 => 0x3F60712A#32
  | 40 => 0x3F000000#32
  | 41 => 0xBCB2B521#32
  | 42 => 0xBF098C78#32
  | 43 => 0xBF659974#32
  | 44 => 0xBF7F069E#32
  | 45 => 0xBF4E7327#32
  | 46 => 0xBEC3EF15#32
  | 47 => 0x3E1BC63C#32
  | 48 => 0x3F248DBB#32
  | 49 => 0x3F726A03#32
  | 50 => 0x3F79EE89#32
  | 51 => 0x3F38ECD8#32
  | 52 => 0x3E8483EE#32
  | 53 => 0xBE8F45C0#32
  | 54 => 0xBF3CBE35#32
  | 55 => 0xBF7B14BE#32
  | 56 => 0xBF708FB2#32
  | 57 => 0xBF203C85#32
  | 58 => 0xBE05A8A8#32
  | 59 => 0x3ECE34D0#32
  | 60 => 0x3F51B3F3#32
  | 61 => 0x3F7F73AF#32
  | 62 => 0x3F631324#32
  | 63 => 0x3F04CE53#32
  | 64 => 0x80000000#32
  | 65 => 0xBF098C78#32
  | 66 => 0xBF6803CA#32
  | 67 => 0xBF7DCF55#32
  | 68 => 0xBF441B7D#32
  | 69 => 0xBE99F61C#32
  | 70 => 0x3E8483EE#32
  | 71 => 0x3F3CBE35#32
  | 72 => 0x3F7C1C5C#32
  | 73 => 0x3F6C835E#32
  | 74 => 0x3F12D5E8#32
  | 75 => 0x3D32AA3E#32
  | 76 => 0xBF000000#32
  | 77 => 0xBF631324#32
  | 78 => 0xBF7F069E#32
  | 79 => 0xBF4B1934#32
  | 80 => 0xBEAF1D44#32
  | 81 => 0x3E5DA259#32
  | 82 => 0x3F3504F3#32
  | 83 => 0x3F79EE89#32
  | 84 => 0x3F708FB2#32
  | 85 => 0x3F1BD7CA#32
  | 86 => 0x3DB27EB6#32
  | 87 => 0xBEEC6A50#32
  | 88 => 0xBF5DB3D7#32
  | 89 => 0xBF7FC1A0#32
  | 90 => 0xBF51B3F3#32
  | 91 => 0xBEC3EF15#32
  | 92 => 0x3E31D0D4#32
  | 93 => 0x3F2CF37B#32
  | 94 => 0x3F7746EA#32
  | 95 => 0x3F7426CB#32
  | 96 => 0x3F248DBB#32
  | 97 => 0x3E05A8A8#32
  | 98 => 0xBED8616C#32
  | 99 => 0xBF57E880#32
  | 100 => 0xBF800000#32
  | 101 => 0xBF57E880#32
  | 102 => 0xBED8616C#32
  | 103 => 0x3E05A8A8#32
  | 104 => 0x3F248DBB#32
  | 105 => 0x3F7426CB#32
  | 106 => 0x3F7746EA#32
  | 107 => 0x3F2CF37B#32
  | 108 => 0x3E31D0D4#32
  | 109 => 0xBEC3EF15#32
  | 110 => 0xBF51B3F3#32
  | 111 => 0xBF7FC1A0#32
  | 112 => 0xBF5DB3D7#32
  | 113 => 0xBEEC6A50#32
  | 114 => 0x3DB27EB6#32
  | 115 => 0x3F1BD7CA#32
  | 116 => 0x3F708FB2#32
  | 117 => 0x3F79EE89#32
  | 118 => 0x3F3504F3#32
  | 119 => 0x3E5DA259#32
  | 120 => 0xBEAF1D44#32
  | 121 => 0xBF4B1934#32
  | 122 => 0xBF7F069E#32
  | 123 => 0xBF631324#32
  | 124 => 0xBF000000#32
  | 125 => 0x3D32AA3E#32
  | 126 => 0x3F12D5E8#32
  | 127 => 0x3F6C835E#32
  | _ => 0#32

noncomputable abbrev lit1t0_59 (i : Nat) : BitVec 32 := match i % 128 with
  | 0 => 0x3F7C1C5C#32
  | 1 => 0x3F3CBE35#32
  | 2 => 0x3E8483EE#32
  | 3 => 0xBE99F61C#32
  | 4 => 0xBF441B7D#32
  | 5 => 0xBF7DCF55#32
  | 6 => 0xBF6803CA#32
  | 7 => 0xBF098C78#32
  | 8 => 0xA50D3132#32
  | 9 => 0x3F098C78#32
  | 10 => 0x3F6803CA#32
  | 11 => 0x3F7DCF55#32
  | 12 => 0x3F441B7D#32
  | 13 => 0x3E99F61C#32
  | 14 => 0xBE8483EE#32
  | 15 => 0xBF3CBE35#32
  | 16 => 0xBF7C1C5C#32
  | 17 => 0xBF6C835E#32
  | 18 => 0xBF12D5E8#32
  | 19 => 0xBD32AA3E#32
  | 20 => 0x3F000000#32
  | 21 => 0x3F631324#32
  | 22 => 0x3F7F069E#32
  | 23 => 0x3F4B1934#32
  | 24 => 0x3EAF1D44#32
  | 25 => 0xBE5DA259#32
  | 26 => 0xBF3504F3#32
  | 27 => 0xBF79EE89#32
  | 28 => 0xBF708FB2#32
  | 29 => 0xBF1BD7CA#32
  | 30 => 0xBDB27EB6#32
  | 31 => 0x3EEC6A50#32
  | 32 => 0x3F5DB3D7#32
  | 33 => 0x3F7FC1A0#32
  | 34 => 0x3F51B3F3#32
  | 35 => 0x3EC3EF15#32
  | 36 => 0xBE31D0D4#32
  | 37 => 0xBF2CF37B#32
  | 38 => 0xBF7746EA#32
  | 39 => 0xBF7426CB#32
  | 40 => 0xBF248DBB#32
  | 41 => 0xBE05A8A8#32
  | 42 => 0x3ED8616C#32
  | 43 => 0x3F57E880#32
  | 44 => 0x3F800000#32
  | 45 => 0x3F57E880#32
  | 46 => 0x3ED8616C#32
  | 47 => 0xBE05A8A8#32
  | 48 => 0xBF248DBB#32
  | 49 => 0xBF7426CB#32
  | 50 => 0xBF7746EA#32
  | 51 => 0xBF2CF37B#32
  | 52 => 0xBE31D0D4#32
  | 53 => 0x3EC3EF15#32
  | 54 => 0x3F51B3F3#32
  | 55 => 0x3F7FC1A0#32
  | 56 => 0x3F5DB3D7#32
  | 57 => 0x3EEC6A50#32
  | 58 => 0xBDB27EB6#32
  | 59 => 0xBF1BD7CA#32
  | 60 => 0xBF708FB2#32
  | 61 => 0xBF79EE89#32
  | 62 => 0xBF3504F3#32
  | 63 => 0xBE5DA259#32
  | 64 => 0x3EAF1D44#32
  | 65 => 0x3F4B1934#32
  | 66 => 0x3F7F069E#32
  | 67 => 0x3F631324#32
  | 68 => 0x3F000000#32
  | 69 => 0xBD32AA3E#32
  | 70 => 0xBF12D5E8#32
  | 71 => 0xBF6C835E#32
  | 72 => 0xBF7C1C5C#32
  | 73 => 0xBF3CBE35#32
  | 74 => 0xBE8483EE#32
  | 75 => 0x3E99F61C#32
  | 76 => 0x3F441B7D#32
  | 77 => 0x3F7DCF55#32
  | 78 => 0x3F6803CA#32
  | 79 => 0x3F098C78#32
  | 80 => 0x80000000#32
  | 81 => 0xBF098C78#32
  | 82 => 0xBF6803CA#32
  | 83 => 0xBF7DCF55#32
  | 84 => 0xBF441B7D#32
  | 85 => 0xBE99F61C#32
  | 86 => 0x3E8483EE#32
  | 87 => 0x3F3CBE35#32
  | 88 => 0x3F7C1C5C#32
  | 89 => 0x3F6C835E#32
  | 90 => 0x3F12D5E8#32
  | 91 => 0x3D32AA3E#32
  | 92 => 0xBF000000#32
  | 93 => 0xBF631324#32
  | 94 => 0xBF7F069E#32
  | 95 => 0xBF4B1934#32
  | 96 => 0xBEAF1D44#32
  | 97 => 0x3E5DA259#32
  | 98 => 0x3F3504F3#32
  | 99 => 0x3F79EE89#32
  | 100 => 0x3F708FB2#32
  | 101 => 0x3F1BD7CA#32
  | 102 => 0x3DB27EB6#32
  | 103 => 0xBEEC6A50#32
  | 104 => 0xBF5DB3D7#32
  | 105 => 0xBF7FC1A0#32
  | 106 => 0xBF51B3F3#32
  | 107 => 0xBEC3EF15#32
  | 108 => 0x3E31D0D4#32
  | 109 => 0x3F2CF37B#32
  | 110 => 0x3F7746EA#32
  | 111 => 0x3F7426CB#32
  | 112 => 0x3F248DBB#32
  | 113 => 0x3E05A8A8#32
  | 114 => 0xBED8616C#32
  | 115 => 0xBF57E880#32
  | 116 => 0xBF800000#32
  | 117 => 0xBF57E880#32
  | 118 => 0xBED8616C#32
  | 119 => 0x3E05A8A8#32
  | 120 => 0x3F248DBB#32
  | 121 => 0x3F7426CB#32
  | 122 => 0x3F7746EA#32
  | 123 => 0x3F2CF37B#32
  | 124 => 0x3E31D0D4#32
  | 125 => 0xBEC3EF15#32
  | 126 => 0xBF51B3F3#32
  | 127 => 0xBF7FC1A0#32
  | _ => 0#32

noncomputable abbrev lit1t0_60 (i : Nat) : BitVec 32 := match i % 128 with
  | 0 => 0xBF5DB3D7#32
  | 1 => 0xBEEC6A50#32
  | 2 => 0x3DB27EB6#32
  | 3 => 0x3F1BD7CA#32
  | 4 => 0x3F708FB2#32
  | 5 => 0x3F79EE89#32
  | 6 => 0x3F3504F3#32
  | 7 => 0x3E5DA259#32
  | 8 => 0xBEAF1D44#32
  | 9 => 0xBF4B1934#32
  | 10 => 0xBF7F069E#32
  | 11 => 0xBF631324#32
  | 12 => 0xBF000000#32
  | 13 => 0x3D32AA3E#32
  | 14 => 0x3F12D5E8#32
  | 15 => 0x3F6C835E#32
  | 16 => 0x3F7C1C5C#32
  | 17 => 0x3F3CBE35#32
  | 18 => 0x3E8483EE#32
  | 19 => 0xBE99F61C#32
  | 20 => 0xBF441B7D#32
  | 21 => 0xBF7DCF55#32
  | 22 => 0xBF6803CA#32
  | 23 => 0xBF098C78#32
  | 24 => 0xA50D3132#32
  | 25 => 0x3F098C78#32
  | 26 => 0x3F6803CA#32
  | 27 => 0x3F7DCF55#32
  | 28 => 0x3F441B7D#32
  | 29 => 0x3E99F61C#32
  | 30 => 0xBE8483EE#32
  | 31 => 0xBF3CBE35#32
  | 32 => 0xBF7C1C5C#32
  | 33 => 0xBF6C835E#32
  | 34 => 0xBF12D5E8#32
  | 35 => 0xBD32AA3E#32
  | 36 => 0x3F000000#32
  | 37 => 0x3F631324#32
  | 38 => 0x3F7F069E#32
  | 39 => 0x3F4B1934#32
  | 40 => 0x3EAF1D44#32
  | 41 => 0xBE5DA259#32
  | 42 => 0xBF3504F3#32
  | 43 => 0xBF79EE89#32
  | 44 => 0xBF708FB2#32
  | 45 => 0xBF1BD7CA#32
  | 46 => 0xBDB27EB6#32
  | 47 => 0x3EEC6A50#32
  | 48 => 0x3F5DB3D7#32
  | 49 => 0x3F7FC1A0#32
  | 50 => 0x3F51B3F3#32
  | 51 => 0x3EC3EF15#32
  | 52 => 0xBE31D0D4#32
  | 53 => 0xBF2CF37B#32
  | 54 => 0xBF7746EA#32
  | 55 => 0xBF7426CB#32
  | 56 => 0xBF248DBB#32
  | 57 => 0xBE05A8A8#32
  | 58 => 0x3ED8616C#32
  | 59 => 0x3F57E880#32
  | 60 => 0x3F800000#32
  | 61 => 0x3F57E880#32
  | 62 => 0x3ED8616C#32
  | 63 => 0xBE05A8A8#32
  | 64 => 0xBF248DBB#32
  | 65 => 0xBF7426CB#32
  | 66 => 0xBF7746EA#32
  | 67 => 0xBF2CF37B#32
  | 68 => 0xBE31D0D4#32
  | 69 => 0x3EC3EF15#32
  | 70 => 0x3F51B3F3#32
  | 71 => 0x3F7FC1A0#32
  | 72 => 0x3F5DB3D7#32
  | 73 => 0x3EEC6A50#32
  | 74 => 0xBDB27EB6#32
  | 75 => 0xBF1BD7CA#32
  | 76 => 0xBF708FB2#32
  | 77 => 0xBF79EE89#32
  | 78 => 0xBF3504F3#32
  | 79 => 0xBE5DA259#32
  | 80 => 0x3EAF1D44#32
  | 81 => 0x3F4B1934#32
  | 82 => 0x3F7F069E#32
  | 83 => 0x3F631324#32
  | 84 => 0x3F000000#32
  | 85 => 0xBD32AA3E#32
  | 86 => 0xBF12D5E8#32
  | 87 => 0xBF6C835E#32
  | 88 => 0xBF7C1C5C#32
  | 89 => 0xBF3CBE35#32
  | 90 => 0xBE8483EE#32
  | 91 => 0x3E99F61C#32
  | 92 => 0x3F441B7D#32
  | 93 => 0x3F7DCF55#32
  | 94 => 0x3F6803CA#32
  | 95 => 0x3F098C78#32
  | 96 => 0x80000000#32
  | 97 => 0xBF0E39DA#32
  | 98 => 0xBF6C835E#32
  | 99 => 0xBF7B14BE#32
  | 100 => 0xBF3504F3#32
  | 101 => 0xBE47C5C2#32
  | 102 => 0x3EC3EF15#32
  | 103 => 0x3F54DB31#32
  | 104 => 0x3F800000#32
  | 105 => 0x3F54DB31#32
  | 106 => 0x3EC3EF15#32
  | 107 => 0xBE47C5C2#32
  | 108 => 0xBF3504F3#32
  | 109 => 0xBF7B14BE#32
  | 110 => 0xBF6C835E#32
  | 111 => 0xBF0E39DA#32
  | 112 => 0xA50D3132#32
  | 113 => 0x3F0E39DA#32
  | 114 => 0x3F6C835E#32
  | 115 => 0x3F7B14BE#32
  | 116 => 0x3F3504F3#32
  | 117 => 0x3E47C5C2#32
  | 118 => 0xBEC3EF15#32
  | 119 => 0xBF54DB31#32
  | 120 => 0xBF800000#32
  | 121 => 0xBF54DB31#32
  | 122 => 0xBEC3EF15#32
  | 123 => 0x3E47C5C2#32
  | 124 => 0x3F3504F3#32
  | 125 => 0x3F7B14BE#32
  | 126 => 0x3F6C835E#32
  | 127 => 0x3F0E39DA#32
  | _ => 0#32

noncomputable abbrev lit1t0_61 (i : Nat) : BitVec 32 := match i % 128 with
  | 0 => 0x80000000#32
  | 1 => 0xBF0E39DA#32
  | 2 => 0xBF6C835E#32
  | 3 => 0xBF7B14BE#32
  | 4 => 0xBF3504F3#32
  | 5 => 0xBE47C5C2#32
  | 6 => 0x3EC3EF15#32
  | 7 => 0x3F54DB31#32
  | 8 => 0x3F800000#32
  | 9 => 0x3F54DB31#32
  | 10 => 0x3EC3EF15#32
  | 11 => 0xBE47C5C2#32
  | 12 => 0xBF3504F3#32
  | 13 => 0xBF7B14BE#32
  | 14 => 0xBF6C835E#32
  | 15 => 0xBF0E39DA#32
  | 16 => 0xA50D3132#32
  | 17 => 0x3F0E39DA#32
  | 18 => 0x3F6C835E#32
  | 19 => 0x3F7B14BE#32
  | 20 => 0x3F3504F3#32
  | 21 => 0x3E47C5C2#32
  | 22 => 0xBEC3EF15#32
  | 23 => 0xBF54DB31#32
  | 24 => 0xBF800000#32
  | 25 => 0xBF54DB31#32
  | 26 => 0xBEC3EF15#32
  | 27 => 0x3E47C5C2#32
  | 28 => 0x3F3504F3#32
  | 29 => 0x3F7B14BE#32
  | 30 => 0x3F6C835E#32
  | 31 => 0x3F0E39DA#32
  | 32 => 0x80000000#32
  | 33 => 0xBF0E39DA#32
  | 34 => 0xBF6C835E#32
  | 35 => 0xBF7B14BE#32
  | 36 => 0xBF3504F3#32
  | 37 => 0xBE47C5C2#32
  | 38 => 0x3EC3EF15#32
  | 39 => 0x3F54DB31#32
  | 40 => 0x3F800000#32
  | 41 => 0x3F54DB31#32
  | 42 => 0x3EC3EF15#32
  | 43 => 0xBE47C5C2#32
  | 44 => 0xBF3504F3#32
  | 45 => 0xBF7B14BE#32
  | 46 => 0xBF6C835E#32
  | 47 => 0xBF0E39DA#32
  | 48 => 0xA50D3132#32
  | 49 => 0x3F0E39DA#32
  | 50 => 0x3F6C835E#32
  | 51 => 0x3F7B14BE#32
  | 52 => 0x3F3504F3#32
  | 53 => 0x3E47C5C2#32
  | 54 => 0xBEC3EF15#32
  | 55 => 0xBF54DB31#32
  | 56 => 0xBF800000#32
  | 57 => 0xBF54DB31#32
  | 58 => 0xBEC3EF15#32
  | 59 => 0x3E47C5C2#32
  | 60 => 0x3F3504F3#32
  | 61 => 0x3F7B14BE#32
  | 62 => 0x3F6C835E#32
  | 63 => 0x3F0E39DA#32
  | 64 => 0x80000000#32
  | 65 => 0xBF0E39DA#32
  | 66 => 0xBF6C835E#32
  | 67 => 0xBF7B14BE#32
  | 68 => 0xBF3504F3#32
  | 69 => 0xBE47C5C2#32
  | 70 => 0x3EC3EF15#32
  | 71 => 0x3F54DB31#32
  | 72 => 0x3F800000#32
  | 73 => 0x3F54DB31#32
  | 74 => 0x3EC3EF15#32
  | 75 => 0xBE47C5C2#32
  | 76 => 0xBF3504F3#32
  | 77 => 0xBF7B14BE#32
  | 78 => 0xBF6C835E#32
  | 79 => 0xBF0E39DA#32
  | 80 => 0xA50D3132#32
  | 81 => 0x3F0E39DA#32
  | 82 => 0x3F6C835E#32
  | 83 => 0x3F7B14BE#32
  | 84 => 0x3F3504F3#32
  | 85 => 0x3E47C5C2#32
  | 86 => 0xBEC3EF15#32
  | 87 => 0xBF54DB31#32
  | 88 => 0xBF800000#32
  | 89 => 0xBF54DB31#32
  | 90 => 0xBEC3EF15#32
  | 91 => 0x3E47C5C2#32
  | 92 => 0x3F3504F3#32
  | 93 => 0x3F7B14BE#32
  | 94 => 0x3F6C835E#32
  | 95 => 0x3F0E39DA#32
  | 96 => 0x80000000#32
  | 97 => 0xBF0E39DA#32
  | 98 => 0xBF6C835E#32
  | 99 => 0xBF7B14BE#32
  | 100 => 0xBF3504F3#32
  | 101 => 0xBE47C5C2#32
  | 102 => 0x3EC3EF15#32
  | 103 => 0x3F54DB31#32
  | 104 => 0x3F800000#32
  | 105 => 0x3F54DB31#32
  | 106 => 0x3EC3EF15#32
  | 107 => 0xBE47C5C2#32
  | 108 => 0xBF3504F3#32
  | 109 => 0xBF7B14BE#32
  | 110 => 0xBF6C835E#32
  | 111 => 0xBF0E39DA#32
  | 112 => 0xA50D3132#32
  | 113 => 0x3F0E39DA#32
  | 114 => 0x3F6C835E#32
  | 115 => 0x3F7B14BE#32
  | 116 => 0x3F3504F3#32
  | 117 => 0x3E47C5C2#32
  | 118 => 0xBEC3EF15#32
  | 119 => 0xBF54DB31#32
  | 120 => 0xBF800000#32
  | 121 => 0xBF54DB31#32
  | 122 => 0xBEC3EF15#32
  | 123 => 0x3E47C5C2#32
  | 124 => 0x3F3504F3#32
  | 125 => 0x3F7B14BE#32
  | 126 => 0x3F6C835E#32
  | 127 => 0x3F0E39DA#32
  | _ => 0#32

noncomputable abbrev lit1t0_62 (i : Nat) : BitVec 32 := match i % 128 with
  | 0 => 0x80000000#32
  | 1 => 0xBF0E39DA#32
  | 2 => 0xBF6C835E#32
  | 3 => 0xBF7B14BE#32
  | 4 => 0xBF3504F3#32
  | 5 => 0xBE47C5C2#32
  | 6 => 0x3EC3EF15#32
  | 7 => 0x3F54DB31#32
  | 8 => 0x3F800000#32
  | 9 => 0x3F54DB31#32
  | 10 => 0x3EC3EF15#32
  | 11 => 0xBE47C5C2#32
  | 12 => 0xBF3504F3#32
  | 13 => 0xBF7B14BE#32
  | 14 => 0xBF6C835E#32
  | 15 => 0xBF0E39DA#32
  | 16 => 0xA50D3132#32
  | 17 => 0x3F0E39DA#32
  | 18 => 0x3F6C835E#32
  | 19 => 0x3F7B14BE#32
  | 20 => 0x3F3504F3#32
  | 21 => 0x3E47C5C2#32
  | 22 => 0xBEC3EF15#32
  | 23 => 0xBF54DB31#32
  | 24 => 0xBF800000#32
  | 25 => 0xBF54DB31#32
  | 26 => 0xBEC3EF15#32
  | 27 => 0x3E47C5C2#32
  | 28 => 0x3F3504F3#32
  | 29 => 0x3F7B14BE#32
  | 30 => 0x3F6C835E#32
  | 31 => 0x3F0E39DA#32
  | 32 => 0x80000000#32
  | 33 => 0xBF0E39DA#32
  | 34 => 0xBF6C835E#32
  | 35 => 0xBF7B14BE#32
  | 36 => 0xBF3504F3#32
  | 37 => 0xBE47C5C2#32
  | 38 => 0x3EC3EF15#32
  | 39 => 0x3F54DB31#32
  | 40 => 0x3F800000#32
  | 41 => 0x3F54DB31#32
  | 42 => 0x3EC3EF15#32
  | 43 => 0xBE47C5C2#32
  | 44 => 0xBF3504F3#32
  | 45 => 0xBF7B14BE#32
  | 46 => 0xBF6C835E#32
  | 47 => 0xBF0E39DA#32
  | 48 => 0xA50D3132#32
  | 49 => 0x3F0E39DA#32
  | 50 => 0x3F6C835E#32
  | 51 => 0x3F7B14BE#32
  | 52 => 0x3F3504F3#32
  | 53 => 0x3E47C5C2#32
  | 54 => 0xBEC3EF15#32
  | 55 => 0xBF54DB31#32
  | 56 => 0xBF800000#32
  | 57 => 0xBF54DB31#32
  | 58 => 0xBEC3EF15#32
  | 59 => 0x3E47C5C2#32
  | 60 => 0x3F3504F3#32
  | 61 => 0x3F7B14BE#32
  | 62 => 0x3F6C835E#32
  | 63 => 0x3F0E39DA#32
  | 64 => 0x80000000#32
  | 65 => 0xBF0E39DA#32
  | 66 => 0xBF6C835E#32
  | 67 => 0xBF7B14BE#32
  | 68 => 0xBF3504F3#32
  | 69 => 0xBE47C5C2#32
  | 70 => 0x3EC3EF15#32
  | 71 => 0x3F54DB31#32
  | 72 => 0x3F800000#32
  | 73 => 0x3F54DB31#32
  | 74 => 0x3EC3EF15#32
  | 75 => 0xBE47C5C2#32
  | 76 => 0xBF3504F3#32
  | 77 => 0xBF7B14BE#32
  | 78 => 0xBF6C835E#32
  | 79 => 0xBF0E39DA#32
  | 80 => 0xA50D3132#32
  | 81 => 0x3F0E39DA#32
  | 82 => 0x3F6C835E#32
  | 83 => 0x3F7B14BE#32
  | 84 => 0x3F3504F3#32
  | 85 => 0x3E47C5C2#32
  | 86 => 0xBEC3EF15#32
  | 87 => 0xBF54DB31#32
  | 88 => 0xBF800000#32
  | 89 => 0xBF54DB31#32
  | 90 => 0xBEC3EF15#32
  | 91 => 0x3E47C5C2#32
  | 92 => 0x3F3504F3#32
  | 93 => 0x3F7B14BE#32
  | 94 => 0x3F6C835E#32
  | 95 => 0x3F0E39DA#32
  | 96 => 0x80000000#32
  | 97 => 0xBF0E39DA#32
  | 98 => 0xBF6C835E#32
  | 99 => 0xBF7B14BE#32
  | 100 => 0xBF3504F3#32
  | 101 => 0xBE47C5C2#32
  | 102 => 0x3EC3EF15#32
  | 103 => 0x3F54DB31#32
  | 104 => 0x3F800000#32
  | 105 => 0x3F54DB31#32
  | 106 => 0x3EC3EF15#32
  | 107 => 0xBE47C5C2#32
  | 108 => 0xBF3504F3#32
  | 109 => 0xBF7B14BE#32
  | 110 => 0xBF6C835E#32
  | 111 => 0xBF0E39DA#32
  | 112 => 0xA50D3132#32
  | 113 => 0x3F0E39DA#32
  | 114 => 0x3F6C835E#32
  | 115 => 0x3F7B14BE#32
  | 116 => 0x3F3504F3#32
  | 117 => 0x3E47C5C2#32
  | 118 => 0xBEC3EF15#32
  | 119 => 0xBF54DB31#32
  | 120 => 0xBF800000#32
  | 121 => 0xBF54DB31#32
  | 122 => 0xBEC3EF15#32
  | 123 => 0x3E47C5C2#32
  | 124 => 0x3F3504F3#32
  | 125 => 0x3F7B14BE#32
  | 126 => 0x3F6C835E#32
  | 127 => 0x3F0E39DA#32
  | _ => 0#32

noncomputable abbrev lit1t0_63 (i : Nat) : BitVec 32 := match i % 128 with
  | 0 => 0x80000000#32
  | 1 => 0xBF12D5E8#32
  | 2 => 0xBF708FB2#32
  | 3 => 0xBF7746EA#32
  | 4 => 0xBF248DBB#32
  | 5 => 0xBDB27EB6#32
  | 6 => 0x3F000000#32
  | 7 => 0x3F6803CA#32
  | 8 => 0x3F7C1C5C#32
  | 9 => 0x3F3504F3#32
  | 10 => 0x3E31D0D4#32
  | 11 => 0xBED8616C#32
  | 12 => 0xBF5DB3D7#32
  | 13 => 0xBF7F069E#32
  | 14 => 0xBF441B7D#32
  | 15 => 0xBE8483EE#32
  | 16 => 0x3EAF1D44#32
  | 17 => 0x3F51B3F3#32
  | 18 => 0x3F800000#32
  | 19 => 0x3F51B3F3#32
  | 20 => 0x3EAF1D44#32
  | 21 => 0xBE8483EE#32
  | 22 => 0xBF441B7D#32
  | 23 => 0xBF7F069E#32
  | 24 => 0xBF5DB3D7#32
  | 25 => 0xBED8616C#32
  | 26 => 0x3E31D0D4#32
  | 27 => 0x3F3504F3#32
  | 28 => 0x3F7C1C5C#32
  | 29 => 0x3F6803CA#32
  | 30 => 0x3F000000#32
  | 31 => 0xBDB27EB6#32
  | 32 => 0xBF248DBB#32
  | 33 => 0xBF7746EA#32
  | 34 => 0xBF708FB2#32
  | 35 => 0xBF12D5E8#32
  | 36 => 0xA50D3132#32
  | 37 => 0x3F12D5E8#32
  | 38 => 0x3F708FB2#32
  | 39 => 0x3F7746EA#32
  | 40 => 0x3F248DBB#32
  | 41 => 0x3DB27EB6#32
  | 42 => 0xBF000000#32
  | 43 => 0xBF6803CA#32
  | 44 => 0xBF7C1C5C#32
  | 45 => 0xBF3504F3#32
  | 46 => 0xBE31D0D4#32
  | 47 => 0x3ED8616C#32
  | 48 => 0x3F5DB3D7#32
  | 49 => 0x3F7F069E#32
  | 50 => 0x3F441B7D#32
  | 51 => 0x3E8483EE#32
  | 52 => 0xBEAF1D44#32
  | 53 => 0xBF51B3F3#32
  | 54 => 0xBF800000#32
  | 55 => 0xBF51B3F3#32
  | 56 => 0xBEAF1D44#32
  | 57 => 0x3E8483EE#32
  | 58 => 0x3F441B7D#32
  | 59 => 0x3F7F069E#32
  | 60 => 0x3F5DB3D7#32
  | 61 => 0x3ED8616C#32
  | 62 => 0xBE31D0D4#32
  | 63 => 0xBF3504F3#32
  | 64 => 0xBF7C1C5C#32
  | 65 => 0xBF6803CA#32
  | 66 => 0xBF000000#32
  | 67 => 0x3DB27EB6#32
  | 68 => 0x3F248DBB#32
  | 69 => 0x3F7746EA#32
  | 70 => 0x3F708FB2#32
  | 71 => 0x3F12D5E8#32
  | 72 => 0x80000000#32
  | 73 => 0xBF12D5E8#32
  | 74 => 0xBF708FB2#32
  | 75 => 0xBF7746EA#32
  | 76 => 0xBF248DBB#32
  | 77 => 0xBDB27EB6#32
  | 78 => 0x3F000000#32
  | 79 => 0x3F6803CA#32
  | 80 => 0x3F7C1C5C#32
  | 81 => 0x3F3504F3#32
  | 82 => 0x3E31D0D4#32
  | 83 => 0xBED8616C#32
  | 84 => 0xBF5DB3D7#32
  | 85 => 0xBF7F069E#32
  | 86 => 0xBF441B7D#32
  | 87 => 0xBE8483EE#32
  | 88 => 0x3EAF1D44#32
  | 89 => 0x3F51B3F3#32
  | 90 => 0x3F800000#32
  | 91 => 0x3F51B3F3#32
  | 92 => 0x3EAF1D44#32
  | 93 => 0xBE8483EE#32
  | 94 => 0xBF441B7D#32
  | 95 => 0xBF7F069E#32
  | 96 => 0xBF5DB3D7#32
  | 97 => 0xBED8616C#32
  | 98 => 0x3E31D0D4#32
  | 99 => 0x3F3504F3#32
  | 100 => 0x3F7C1C5C#32
  | 101 => 0x3F6803CA#32
  | 102 => 0x3F000000#32
  | 103 => 0xBDB27EB6#32
  | 104 => 0xBF248DBB#32
  | 105 => 0xBF7746EA#32
  | 106 => 0xBF708FB2#32
  | 107 => 0xBF12D5E8#32
  | 108 => 0xA50D3132#32
  | 109 => 0x3F12D5E8#32
  | 110 => 0x3F708FB2#32
  | 111 => 0x3F7746EA#32
  | 112 => 0x3F248DBB#32
  | 113 => 0x3DB27EB6#32
  | 114 => 0xBF000000#32
  | 115 => 0xBF6803CA#32
  | 116 => 0xBF7C1C5C#32
  | 117 => 0xBF3504F3#32
  | 118 => 0xBE31D0D4#32
  | 119 => 0x3ED8616C#32
  | 120 => 0x3F5DB3D7#32
  | 121 => 0x3F7F069E#32
  | 122 => 0x3F441B7D#32
  | 123 => 0x3E8483EE#32
  | 124 => 0xBEAF1D44#32
  | 125 => 0xBF51B3F3#32
  | 126 => 0xBF800000#32
  | 127 => 0xBF51B3F3#32
  | _ => 0#32

noncomputable abbrev lit1t0_64 (i : Nat) : BitVec 32 := match i % 128 with
  | 0 => 0xBEAF1D44#32
  | 1 => 0x3E8483EE#32
  | 2 => 0x3F441B7D#32
  | 3 => 0x3F7F069E#32
  | 4 => 0x3F5DB3D7#32
  | 5 => 0x3ED8616C#32
  | 6 => 0xBE31D0D4#32
  | 7 => 0xBF3504F3#32
  | 8 => 0xBF7C1C5C#32
  | 9 => 0xBF6803CA#32
  | 10 => 0xBF000000#32
  | 11 => 0x3DB27EB6#32
  | 12 => 0x3F248DBB#32
  | 13 => 0x3F7746EA#32
  | 14 => 0x3F708FB2#32
  | 15 => 0x3F12D5E8#32
  | 16 => 0x80000000#32
  | 17 => 0xBF12D5E8#32
  | 18 => 0xBF708FB2#32
  | 19 => 0xBF7746EA#32
  | 20 => 0xBF248DBB#32
  | 21 => 0xBDB27EB6#32
  | 22 => 0x3F000000#32
  | 23 => 0x3F6803CA#32
  | 24 => 0x3F7C1C5C#32
  | 25 => 0x3F3504F3#32
  | 26 => 0x3E31D0D4#32
  | 27 => 0xBED8616C#32
  | 28 => 0xBF5DB3D7#32
  | 29 => 0xBF7F069E#32
  | 30 => 0xBF441B7D#32
  | 31 => 0xBE8483EE#32
  | 32 => 0x3EAF1D44#32
  | 33 => 0x3F51B3F3#32
  | 34 => 0x3F800000#32
  | 35 => 0x3F51B3F3#32
  | 36 => 0x3EAF1D44#32
  | 37 => 0xBE8483EE#32
  | 38 => 0xBF441B7D#32
  | 39 => 0xBF7F069E#32
  | 40 => 0xBF5DB3D7#32
  | 41 => 0xBED8616C#32
  | 42 => 0x3E31D0D4#32
  | 43 => 0x3F3504F3#32
  | 44 => 0x3F7C1C5C#32
  | 45 => 0x3F6803CA#32
  | 46 => 0x3F000000#32
  | 47 => 0xBDB27EB6#32
  | 48 => 0xBF248DBB#32
  | 49 => 0xBF7746EA#32
  | 50 => 0xBF708FB2#32
  | 51 => 0xBF12D5E8#32
  | 52 => 0xA50D3132#32
  | 53 => 0x3F12D5E8#32
  | 54 => 0x3F708FB2#32
  | 55 => 0x3F7746EA#32
  | 56 => 0x3F248DBB#32
  | 57 => 0x3DB27EB6#32
  | 58 => 0xBF000000#32
  | 59 => 0xBF6803CA#32
  | 60 => 0xBF7C1C5C#32
  | 61 => 0xBF3504F3#32
  | 62 => 0xBE31D0D4#32
  | 63 => 0x3ED8616C#32
  | 64 => 0x3F5DB3D7#32
  | 65 => 0x3F7F069E#32
  | 66 => 0x3F441B7D#32
  | 67 => 0x3E8483EE#32
  | 68 => 0xBEAF1D44#32
  | 69 => 0xBF51B3F3#32
  | 70 => 0xBF800000#32
  | 71 => 0xBF51B3F3#32
  | 72 => 0xBEAF1D44#32
  | 73 => 0x3E8483EE#32
  | 74 => 0x3F441B7D#32
  | 75 => 0x3F7F069E#32
  | 76 => 0x3F5DB3D7#32
  | 77 => 0x3ED8616C#32
  | 78 => 0xBE31D0D4#32
  | 79 => 0xBF3504F3#32
  | 80 => 0xBF7C1C5C#32
  | 81 => 0xBF6803CA#32
  | 82 => 0xBF000000#32
  | 83 => 0x3DB27EB6#32
  | 84 => 0x3F248DBB#32
  | 85 => 0x3F7746EA#32
  | 86 => 0x3F708FB2#32
  | 87 => 0x3F12D5E8#32
  | 88 => 0x80000000#32
  | 89 => 0xBF12D5E8#32
  | 90 => 0xBF708FB2#32
  | 91 => 0xBF7746EA#32
  | 92 => 0xBF248DBB#32
  | 93 => 0xBDB27EB6#32
  | 94 => 0x3F000000#32
  | 95 => 0x3F6803CA#32
  | 96 => 0x3F7C1C5C#32
  | 97 => 0x3F3504F3#32
  | 98 => 0x3E31D0D4#32
  | 99 => 0xBED8616C#32
  | 100 => 0xBF5DB3D7#32
  | 101 => 0xBF7F069E#32
  | 102 => 0xBF441B7D#32
  | 103 => 0xBE8483EE#32
  | 104 => 0x3EAF1D44#32
  | 105 => 0x3F51B3F3#32
  | 106 => 0x3F800000#32
  | 107 => 0x3F51B3F3#32
  | 108 => 0x3EAF1D44#32
  | 109 => 0xBE8483EE#32
  | 110 => 0xBF441B7D#32
  | 111 => 0xBF7F069E#32
  | 112 => 0xBF5DB3D7#32
  | 113 => 0xBED8616C#32
  | 114 => 0x3E31D0D4#32
  | 115 => 0x3F3504F3#32
  | 116 => 0x3F7C1C5C#32
  | 117 => 0x3F6803CA#32
  | 118 => 0x3F000000#32
  | 119 => 0xBDB27EB6#32
  | 120 => 0xBF248DBB#32
  | 121 => 0xBF7746EA#32
  | 122 => 0xBF708FB2#32
  | 123 => 0xBF12D5E8#32
  | 124 => 0xA50D3132#32
  | 125 => 0x3F12D5E8#32
  | 126 => 0x3F708FB2#32
  | 127 => 0x3F7746EA#32
  | _ => 0#32

noncomputable abbrev lit1t0_65 (i : Nat) : BitVec 32 := match i % 128 with
  | 0 => 0x3F248DBB#32
  | 1 => 0x3DB27EB6#32
  | 2 => 0xBF000000#32
  | 3 => 0xBF6803CA#32
  | 4 => 0xBF7C1C5C#32
  | 5 => 0xBF3504F3#32
  | 6 => 0xBE31D0D4#32
  | 7 => 0x3ED8616C#32
  | 8 => 0x3F5DB3D7#32
  | 9 => 0x3F7F069E#32
  | 10 => 0x3F441B7D#32
  | 11 => 0x3E8483EE#32
  | 12 => 0xBEAF1D44#32
  | 13 => 0xBF51B3F3#32
  | 14 => 0xBF800000#32
  | 15 => 0xBF51B3F3#32
  | 16 => 0xBEAF1D44#32
  | 17 => 0x3E8483EE#32
  | 18 => 0x3F441B7D#32
  | 19 => 0x3F7F069E#32
  | 20 => 0x3F5DB3D7#32
  | 21 => 0x3ED8616C#32
  | 22 => 0xBE31D0D4#32
  | 23 => 0xBF3504F3#32
  | 24 => 0xBF7C1C5C#32
  | 25 => 0xBF6803CA#32
  | 26 => 0xBF000000#32
  | 27 => 0x3DB27EB6#32
  | 28 => 0x3F248DBB#32
  | 29 => 0x3F7746EA#32
  | 30 => 0x3F708FB2#32
  | 31 => 0x3F12D5E8#32
  | 32 => 0x80000000#32
  | 33 => 0xBF176012#32
  | 34 => 0xBF7426CB#32
  | 35 => 0xBF726A03#32
  | 36 => 0xBF12D5E8#32
  | 37 => 0x3CB2B521#32
  | 38 => 0x3F1BD7CA#32
  | 39 => 0x3F75C5D4#32
  | 40 => 0x3F708FB2#32
  | 41 => 0x3F0E39DA#32
  | 42 => 0xBD32AA3E#32
  | 43 => 0xBF203C85#32
  | 44 => 0xBF7746EA#32
  | 45 => 0xBF6E9811#32
  | 46 => 0xBF098C78#32
  | 47 => 0x3D85F213#32
  | 48 => 0x3F248DBB#32
  | 49 => 0x3F78A9E0#32
  | 50 => 0x3F6C835E#32
  | 51 => 0x3F04CE53#32
  | 52 => 0xBDB27EB6#32
  | 53 => 0xBF28CAE3#32
  | 54 => 0xBF79EE89#32
  | 55 => 0xBF6A51DA#32
  | 56 => 0xBF000000#32
  | 57 => 0x3DDEF599#32
  | 58 => 0x3F2CF37B#32
  | 59 => 0x3F7B14BE#32
  | 60 => 0x3F6803CA#32
  | 61 => 0x3EF64429#32
  | 62 => 0xBE05A8A8#32
  | 63 => 0xBF310700#32
  | 64 => 0xBF7C1C5C#32
  | 65 => 0xBF659974#32
  | 66 => 0xBEEC6A50#32
  | 67 => 0x3E1BC63C#32
  | 68 => 0x3F3504F3#32
  | 69 => 0x3F7D0543#32
  | 70 => 0x3F631324#32
  | 71 => 0x3EE273AA#32
  | 72 => 0xBE31D0D4#32
  | 73 => 0xBF38ECD8#32
  | 74 => 0xBF7DCF55#32
  | 75 => 0xBF60712A#32
  | 76 => 0xBED8616C#32
  | 77 => 0x3E47C5C2#32
  | 78 => 0x3F3CBE35#32
  | 79 => 0x3F7E7A7A#32
  | 80 => 0x3F5DB3D7#32
  | 81 => 0x3ECE34D0#32
  | 82 => 0xBE5DA259#32
  | 83 => 0xBF407893#32
  | 84 => 0xBF7F069E#32
  | 85 => 0xBF5ADB81#32
  | 86 => 0xBEC3EF15#32
  | 87 => 0x3E7363EE#32
  | 88 => 0x3F441B7D#32
  | 89 => 0x3F7F73AF#32
  | 90 => 0x3F57E880#32
  | 91 => 0x3EB9917B#32
  | 92 => 0xBE8483EE#32
  | 93 => 0xBF47A682#32
  | 94 => 0xBF7FC1A0#32
  | 95 => 0xBF54DB31#32
  | 96 => 0xBEAF1D44#32
  | 97 => 0x3E8F45C0#32
  | 98 => 0x3F4B1934#32
  | 99 => 0x3F7FF067#32
  | 100 => 0x3F51B3F3#32
  | 101 => 0x3EA493B7#32
  | 102 => 0xBE99F61C#32
  | 103 => 0xBF4E7327#32
  | 104 => 0xBF800000#32
  | 105 => 0xBF4E7327#32
  | 106 => 0xBE99F61C#32
  | 107 => 0x3EA493B7#32
  | 108 => 0x3F51B3F3#32
  | 109 => 0x3F7FF067#32
  | 110 => 0x3F4B1934#32
  | 111 => 0x3E8F45C0#32
  | 112 => 0xBEAF1D44#32
  | 113 => 0xBF54DB31#32
  | 114 => 0xBF7FC1A0#32
  | 115 => 0xBF47A682#32
  | 116 => 0xBE8483EE#32
  | 117 => 0x3EB9917B#32
  | 118 => 0x3F57E880#32
  | 119 => 0x3F7F73AF#32
  | 120 => 0x3F441B7D#32
  | 121 => 0x3E7363EE#32
  | 122 => 0xBEC3EF15#32
  | 123 => 0xBF5ADB81#32
  | 124 => 0xBF7F069E#32
  | 125 => 0xBF407893#32
  | 126 => 0xBE5DA259#32
  | 127 => 0x3ECE34D0#32
  | _ => 0#32

noncomputable abbrev lit1t0_66 (i : Nat) : BitVec 32 := match i % 128 with
  | 0 => 0x3F5DB3D7#32
  | 1 => 0x3F7E7A7A#32
  | 2 => 0x3F3CBE35#32
  | 3 => 0x3E47C5C2#32
  | 4 => 0xBED8616C#32
  | 5 => 0xBF60712A#32
  | 6 => 0xBF7DCF55#32
  | 7 => 0xBF38ECD8#32
  | 8 => 0xBE31D0D4#32
  | 9 => 0x3EE273AA#32
  | 10 => 0x3F631324#32
  | 11 => 0x3F7D0543#32
  | 12 => 0x3F3504F3#32
  | 13 => 0x3E1BC63C#32
  | 14 => 0xBEEC6A50#32
  | 15 => 0xBF659974#32
  | 16 => 0xBF7C1C5C#32
  | 17 => 0xBF310700#32
  | 18 => 0xBE05A8A8#32
  | 19 => 0x3EF64429#32
  | 20 => 0x3F6803CA#32
  | 21 => 0x3F7B14BE#32
  | 22 => 0x3F2CF37B#32
  | 23 => 0x3DDEF599#32
  | 24 => 0xBF000000#32
  | 25 => 0xBF6A51DA#32
  | 26 => 0xBF79EE89#32
  | 27 => 0xBF28CAE3#32
  | 28 => 0xBDB27EB6#32
  | 29 => 0x3F04CE53#32
  | 30 => 0x3F6C835E#32
  | 31 => 0x3F78A9E0#32
  | 32 => 0x3F248DBB#32
  | 33 => 0x3D85F213#32
  | 34 => 0xBF098C78#32
  | 35 => 0xBF6E9811#32
  | 36 => 0xBF7746EA#32
  | 37 => 0xBF203C85#32
  | 38 => 0xBD32AA3E#32
  | 39 => 0x3F0E39DA#32
  | 40 => 0x3F708FB2#32
  | 41 => 0x3F75C5D4#32
  | 42 => 0x3F1BD7CA#32
  | 43 => 0x3CB2B521#32
  | 44 => 0xBF12D5E8#32
  | 45 => 0xBF726A03#32
  | 46 => 0xBF7426CB#32
  | 47 => 0xBF176012#32
  | 48 => 0xA50D3132#32
  | 49 => 0x3F176012#32
  | 50 => 0x3F7426CB#32
  | 51 => 0x3F726A03#32
  | 52 => 0x3F12D5E8#32
  | 53 => 0xBCB2B521#32
  | 54 => 0xBF1BD7CA#32
  | 55 => 0xBF75C5D4#32
  | 56 => 0xBF708FB2#32
  | 57 => 0xBF0E39DA#32
  | 58 => 0x3D32AA3E#32
  | 59 => 0x3F203C85#32
  | 60 => 0x3F7746EA#32
  | 61 => 0x3F6E9811#32
  | 62 => 0x3F098C78#32
  | 63 => 0xBD85F213#32
  | 64 => 0xBF248DBB#32
  | 65 => 0xBF78A9E0#32
  | 66 => 0xBF6C835E#32
  | 67 => 0xBF04CE53#32
  | 68 => 0x3DB27EB6#32
  | 69 => 0x3F28CAE3#32
  | 70 => 0x3F79EE89#32
  | 71 => 0x3F6A51DA#32
  | 72 => 0x3F000000#32
  | 73 => 0xBDDEF599#32
  | 74 => 0xBF2CF37B#32
  | 75 => 0xBF7B14BE#32
  | 76 => 0xBF6803CA#32
  | 77 => 0xBEF64429#32
  | 78 => 0x3E05A8A8#32
  | 79 => 0x3F310700#32
  | 80 => 0x3F7C1C5C#32
  | 81 => 0x3F659974#32
  | 82 => 0x3EEC6A50#32
  | 83 => 0xBE1BC63C#32
  | 84 => 0xBF3504F3#32
  | 85 => 0xBF7D0543#32
  | 86 => 0xBF631324#32
  | 87 => 0xBEE273AA#32
  | 88 => 0x3E31D0D4#32
  | 89 => 0x3F38ECD8#32
  | 90 => 0x3F7DCF55#32
  | 91 => 0x3F60712A#32
  | 92 => 0x3ED8616C#32
  | 93 => 0xBE47C5C2#32
  | 94 => 0xBF3CBE35#32
  | 95 => 0xBF7E7A7A#32
  | 96 => 0xBF5DB3D7#32
  | 97 => 0xBECE34D0#32
  | 98 => 0x3E5DA259#32
  | 99 => 0x3F407893#32
  | 100 => 0x3F7F069E#32
  | 101 => 0x3F5ADB81#32
  | 102 => 0x3EC3EF15#32
  | 103 => 0xBE7363EE#32
  | 104 => 0xBF441B7D#32
  | 105 => 0xBF7F73AF#32
  | 106 => 0xBF57E880#32
  | 107 => 0xBEB9917B#32
  | 108 => 0x3E8483EE#32
  | 109 => 0x3F47A682#32
  | 110 => 0x3F7FC1A0#32
  | 111 => 0x3F54DB31#32
  | 112 => 0x3EAF1D44#32
  | 113 => 0xBE8F45C0#32
  | 114 => 0xBF4B1934#32
  | 115 => 0xBF7FF067#32
  | 116 => 0xBF51B3F3#32
  | 117 => 0xBEA493B7#32
  | 118 => 0x3E99F61C#32
  | 119 => 0x3F4E7327#32
  | 120 => 0x3F800000#32
  | 121 => 0x3F4E7327#32
  | 122 => 0x3E99F61C#32
  | 123 => 0xBEA493B7#32
  | 124 => 0xBF51B3F3#32
  | 125 => 0xBF7FF067#32
  | 126 => 0xBF4B1934#32
  | 127 => 0xBE8F45C0#32
  | _ => 0#32

noncomputable abbrev lit1t0_67 (i : Nat) : BitVec 32 := match i % 128 with
  | 0 => 0x3EAF1D44#32
  | 1 => 0x3F54DB31#32
  | 2 => 0x3F7FC1A0#32
  | 3 => 0x3F47A682#32
  | 4 => 0x3E8483EE#32
  | 5 => 0xBEB9917B#32
  | 6 => 0xBF57E880#32
  | 7 => 0xBF7F73AF#32
  | 8 => 0xBF441B7D#32
  | 9 => 0xBE7363EE#32
  | 10 => 0x3EC3EF15#32
  | 11 => 0x3F5ADB81#32
  | 12 => 0x3F7F069E#32
  | 13 => 0x3F407893#32
  | 14 => 0x3E5DA259#32
  | 15 => 0xBECE34D0#32
  | 16 => 0xBF5DB3D7#32
  | 17 => 0xBF7E7A7A#32
  | 18 => 0xBF3CBE35#32
  | 19 => 0xBE47C5C2#32
  | 20 => 0x3ED8616C#32
  | 21 => 0x3F60712A#32
  | 22 => 0x3F7DCF55#32
  | 23 => 0x3F38ECD8#32
  | 24 => 0x3E31D0D4#32
  | 25 => 0xBEE273AA#32
  | 26 => 0xBF631324#32
  | 27 => 0xBF7D0543#32
  | 28 => 0xBF3504F3#32
  | 29 => 0xBE1BC63C#32
  | 30 => 0x3EEC6A50#32
  | 31 => 0x3F659974#32
  | 32 => 0x3F7C1C5C#32
  | 33 => 0x3F310700#32
  | 34 => 0x3E05A8A8#32
  | 35 => 0xBEF64429#32
  | 36 => 0xBF6803CA#32
  | 37 => 0xBF7B14BE#32
  | 38 => 0xBF2CF37B#32
  | 39 => 0xBDDEF599#32
  | 40 => 0x3F000000#32
  | 41 => 0x3F6A51DA#32
  | 42 => 0x3F79EE89#32
  | 43 => 0x3F28CAE3#32
  | 44 => 0x3DB27EB6#32
  | 45 => 0xBF04CE53#32
  | 46 => 0xBF6C835E#32
  | 47 => 0xBF78A9E0#32
  | 48 => 0xBF248DBB#32
  | 49 => 0xBD85F213#32
  | 50 => 0x3F098C78#32
  | 51 => 0x3F6E9811#32
  | 52 => 0x3F7746EA#32
  | 53 => 0x3F203C85#32
  | 54 => 0x3D32AA3E#32
  | 55 => 0xBF0E39DA#32
  | 56 => 0xBF708FB2#32
  | 57 => 0xBF75C5D4#32
  | 58 => 0xBF1BD7CA#32
  | 59 => 0xBCB2B521#32
  | 60 => 0x3F12D5E8#32
  | 61 => 0x3F726A03#32
  | 62 => 0x3F7426CB#32
  | 63 => 0x3F176012#32
  | 64 => 0x80000000#32
  | 65 => 0xBF1BD7CA#32
  | 66 => 0xBF7746EA#32
  | 67 => 0xBF6C835E#32
  | 68 => 0xBF000000#32
  | 69 => 0x3E05A8A8#32
  | 70 => 0x3F3504F3#32
  | 71 => 0x3F7DCF55#32
  | 72 => 0x3F5DB3D7#32
  | 73 => 0x3EC3EF15#32
  | 74 => 0xBE8483EE#32
  | 75 => 0xBF4B1934#32
  | 76 => 0xBF800000#32
  | 77 => 0xBF4B1934#32
  | 78 => 0xBE8483EE#32
  | 79 => 0x3EC3EF15#32
  | 80 => 0x3F5DB3D7#32
  | 81 => 0x3F7DCF55#32
  | 82 => 0x3F3504F3#32
  | 83 => 0x3E05A8A8#32
  | 84 => 0xBF000000#32
  | 85 => 0xBF6C835E#32
  | 86 => 0xBF7746EA#32
  | 87 => 0xBF1BD7CA#32
  | 88 => 0xA50D3132#32
  | 89 => 0x3F1BD7CA#32
  | 90 => 0x3F7746EA#32
  | 91 => 0x3F6C835E#32
  | 92 => 0x3F000000#32
  | 93 => 0xBE05A8A8#32
  | 94 => 0xBF3504F3#32
  | 95 => 0xBF7DCF55#32
  | 96 => 0xBF5DB3D7#32
  | 97 => 0xBEC3EF15#32
  | 98 => 0x3E8483EE#32
  | 99 => 0x3F4B1934#32
  | 100 => 0x3F800000#32
  | 101 => 0x3F4B1934#32
  | 102 => 0x3E8483EE#32
  | 103 => 0xBEC3EF15#32
  | 104 => 0xBF5DB3D7#32
  | 105 => 0xBF7DCF55#32
  | 106 => 0xBF3504F3#32
  | 107 => 0xBE05A8A8#32
  | 108 => 0x3F000000#32
  | 109 => 0x3F6C835E#32
  | 110 => 0x3F7746EA#32
  | 111 => 0x3F1BD7CA#32
  | 112 => 0x80000000#32
  | 113 => 0xBF1BD7CA#32
  | 114 => 0xBF7746EA#32
  | 115 => 0xBF6C835E#32
  | 116 => 0xBF000000#32
  | 117 => 0x3E05A8A8#32
  | 118 => 0x3F3504F3#32
  | 119 => 0x3F7DCF55#32
  | 120 => 0x3F5DB3D7#32
  | 121 => 0x3EC3EF15#32
  | 122 => 0xBE8483EE#32
  | 123 => 0xBF4B1934#32
  | 124 => 0xBF800000#32
  | 125 => 0xBF4B1934#32
  | 126 => 0xBE8483EE#32
  | 127 => 0x3EC3EF15#32
  | _ => 0#32

noncomputable abbrev lit1t0_68 (i : Nat) : BitVec 32 := match i % 128 with
  | 0 => 0x3F5DB3D7#32
  | 1 => 0x3F7DCF55#32
  | 2 => 0x3F3504F3#32
  | 3 => 0x3E05A8A8#32
  | 4 => 0xBF000000#32
  | 5 => 0xBF6C835E#32
  | 6 => 0xBF7746EA#32
  | 7 => 0xBF1BD7CA#32
  | 8 => 0xA50D3132#32
  | 9 => 0x3F1BD7CA#32
  | 10 => 0x3F7746EA#32
  | 11 => 0x3F6C835E#32
  | 12 => 0x3F000000#32
  | 13 => 0xBE05A8A8#32
  | 14 => 0xBF3504F3#32
  | 15 => 0xBF7DCF55#32
  | 16 => 0xBF5DB3D7#32
  | 17 => 0xBEC3EF15#32
  | 18 => 0x3E8483EE#32
  | 19 => 0x3F4B1934#32
  | 20 => 0x3F800000#32
  | 21 => 0x3F4B1934#32
  | 22 => 0x3E8483EE#32
  | 23 => 0xBEC3EF15#32
  | 24 => 0xBF5DB3D7#32
  | 25 => 0xBF7DCF55#32
  | 26 => 0xBF3504F3#32
  | 27 => 0xBE05A8A8#32
  | 28 => 0x3F000000#32
  | 29 => 0x3F6C835E#32
  | 30 => 0x3F7746EA#32
  | 31 => 0x3F1BD7CA#32
  | 32 => 0x80000000#32
  | 33 => 0xBF1BD7CA#32
  | 34 => 0xBF7746EA#32
  | 35 => 0xBF6C835E#32
  | 36 => 0xBF000000#32
  | 37 => 0x3E05A8A8#32
  | 38 => 0x3F3504F3#32
  | 39 => 0x3F7DCF55#32
  | 40 => 0x3F5DB3D7#32
  | 41 => 0x3EC3EF15#32
  | 42 => 0xBE8483EE#32
  | 43 => 0xBF4B1934#32
  | 44 => 0xBF800000#32
  | 45 => 0xBF4B1934#32
  | 46 => 0xBE8483EE#32
  | 47 => 0x3EC3EF15#32
  | 48 => 0x3F5DB3D7#32
  | 49 => 0x3F7DCF55#32
  | 50 => 0x3F3504F3#32
  | 51 => 0x3E05A8A8#32
  | 52 => 0xBF000000#32
  | 53 => 0xBF6C835E#32
  | 54 => 0xBF7746EA#32
  | 55 => 0xBF1BD7CA#32
  | 56 => 0xA50D3132#32
  | 57 => 0x3F1BD7CA#32
  | 58 => 0x3F7746EA#32
  | 59 => 0x3F6C835E#32
  | 60 => 0x3F000000#32
  | 61 => 0xBE05A8A8#32
  | 62 => 0xBF3504F3#32
  | 63 => 0xBF7DCF55#32
  | 64 => 0xBF5DB3D7#32
  | 65 => 0xBEC3EF15#32
  | 66 => 0x3E8483EE#32
  | 67 => 0x3F4B1934#32
  | 68 => 0x3F800000#32
  | 69 => 0x3F4B1934#32
  | 70 => 0x3E8483EE#32
  | 71 => 0xBEC3EF15#32
  | 72 => 0xBF5DB3D7#32
  | 73 => 0xBF7DCF55#32
  | 74 => 0xBF3504F3#32
  | 75 => 0xBE05A8A8#32
  | 76 => 0x3F000000#32
  | 77 => 0x3F6C835E#32
  | 78 => 0x3F7746EA#32
  | 79 => 0x3F1BD7CA#32
  | 80 => 0x80000000#32
  | 81 => 0xBF1BD7CA#32
  | 82 => 0xBF7746EA#32
  | 83 => 0xBF6C835E#32
  | 84 => 0xBF000000#32
  | 85 => 0x3E05A8A8#32
  | 86 => 0x3F3504F3#32
  | 87 => 0x3F7DCF55#32
  | 88 => 0x3F5DB3D7#32
  | 89 => 0x3EC3EF15#32
  | 90 => 0xBE8483EE#32
  | 91 => 0xBF4B1934#32
  | 92 => 0xBF800000#32
  | 93 => 0xBF4B1934#32
  | 94 => 0xBE8483EE#32
  | 95 => 0x3EC3EF15#32
  | 96 => 0x3F5DB3D7#32
  | 97 => 0x3F7DCF55#32
  | 98 => 0x3F3504F3#32
  | 99 => 0x3E05A8A8#32
  | 100 => 0xBF000000#32
  | 101 => 0xBF6C835E#32
  | 102 => 0xBF7746EA#32
  | 103 => 0xBF1BD7CA#32
  | 104 => 0xA50D3132#32
  | 105 => 0x3F1BD7CA#32
  | 106 => 0x3F7746EA#32
  | 107 => 0x3F6C835E#32
  | 108 => 0x3F000000#32
  | 109 => 0xBE05A8A8#32
  | 110 => 0xBF3504F3#32
  | 111 => 0xBF7DCF55#32
  | 112 => 0xBF5DB3D7#32
  | 113 => 0xBEC3EF15#32
  | 114 => 0x3E8483EE#32
  | 115 => 0x3F4B1934#32
  | 116 => 0x3F800000#32
  | 117 => 0x3F4B1934#32
  | 118 => 0x3E8483EE#32
  | 119 => 0xBEC3EF15#32
  | 120 => 0xBF5DB3D7#32
  | 121 => 0xBF7DCF55#32
  | 122 => 0xBF3504F3#32
  | 123 => 0xBE05A8A8#32
  | 124 => 0x3F000000#32
  | 125 => 0x3F6C835E#32
  | 126 => 0x3F7746EA#32
  | 127 => 0x3F1BD7CA#32
  | _ => 0#32

noncomputable abbrev lit1t0_69 (i : Nat) : BitVec 32 := match i % 128 with
  | 0 => 0x80000000#32
  | 1 => 0xBF1BD7CA#32
  | 2 => 0xBF7746EA#32
  | 3 => 0xBF6C835E#32
  | 4 => 0xBF000000#32
  | 5 => 0x3E05A8A8#32
  | 6 => 0x3F3504F3#32
  | 7 => 0x3F7DCF55#32
  | 8 => 0x3F5DB3D7#32
  | 9 => 0x3EC3EF15#32
  | 10 => 0xBE8483EE#32
  | 11 => 0xBF4B1934#32
  | 12 => 0xBF800000#32
  | 13 => 0xBF4B1934#32
  | 14 => 0xBE8483EE#32
  | 15 => 0x3EC3EF15#32
  | 16 => 0x3F5DB3D7#32
  | 17 => 0x3F7DCF55#32
  | 18 => 0x3F3504F3#32
  | 19 => 0x3E05A8A8#32
  | 20 => 0xBF000000#32
  | 21 => 0xBF6C835E#32
  | 22 => 0xBF7746EA#32
  | 23 => 0xBF1BD7CA#32
  | 24 => 0xA50D3132#32
  | 25 => 0x3F1BD7CA#32
  | 26 => 0x3F7746EA#32
  | 27 => 0x3F6C835E#32
  | 28 => 0x3F000000#32
  | 29 => 0xBE05A8A8#32
  | 30 => 0xBF3504F3#32
  | 31 => 0xBF7DCF55#32
  | 32 => 0xBF5DB3D7#32
  | 33 => 0xBEC3EF15#32
  | 34 => 0x3E8483EE#32
  | 35 => 0x3F4B1934#32
  | 36 => 0x3F800000#32
  | 37 => 0x3F4B1934#32
  | 38 => 0x3E8483EE#32
  | 39 => 0xBEC3EF15#32
  | 40 => 0xBF5DB3D7#32
  | 41 => 0xBF7DCF55#32
  | 42 => 0xBF3504F3#32
  | 43 => 0xBE05A8A8#32
  | 44 => 0x3F000000#32
  | 45 => 0x3F6C835E#32
  | 46 => 0x3F7746EA#32
  | 47 => 0x3F1BD7CA#32
  | 48 => 0x80000000#32
  | 49 => 0xBF1BD7CA#32
  | 50 => 0xBF7746EA#32
  | 51 => 0xBF6C835E#32
  | 52 => 0xBF000000#32
  | 53 => 0x3E05A8A8#32
  | 54 => 0x3F3504F3#32
  | 55 => 0x3F7DCF55#32
  | 56 => 0x3F5DB3D7#32
  | 57 => 0x3EC3EF15#32
  | 58 => 0xBE8483EE#32
  | 59 => 0xBF4B1934#32
  | 60 => 0xBF800000#32
  | 61 => 0xBF4B1934#32
  | 62 => 0xBE8483EE#32
  | 63 => 0x3EC3EF15#32
  | 64 => 0x3F5DB3D7#32
  | 65 => 0x3F7DCF55#32
  | 66 => 0x3F3504F3#32
  | 67 => 0x3E05A8A8#32
  | 68 => 0xBF000000#32
  | 69 => 0xBF6C835E#32
  | 70 => 0xBF7746EA#32
  | 71 => 0xBF1BD7CA#32
  | 72 => 0xA50D3132#32
  | 73 => 0x3F1BD7CA#32
  | 74 => 0x3F7746EA#32
  | 75 => 0x3F6C835E#32
  | 76 => 0x3F000000#32
  | 77 => 0xBE05A8A8#32
  | 78 => 0xBF3504F3#32
  | 79 => 0xBF7DCF55#32
  | 80 => 0xBF5DB3D7#32
  | 81 => 0xBEC3EF15#32
  | 82 => 0x3E8483EE#32
  | 83 => 0x3F4B1934#32
  | 84 => 0x3F800000#32
  | 85 => 0x3F4B1934#32
  | 86 => 0x3E8483EE#32
  | 87 => 0xBEC3EF15#32
  | 88 => 0xBF5DB3D7#32
  | 89 => 0xBF7DCF55#32
  | 90 => 0xBF3504F3#32
  | 91 => 0xBE05A8A8#32
  | 92 => 0x3F000000#32
  | 93 => 0x3F6C835E#32
  | 94 => 0x3F7746EA#32
  | 95 => 0x3F1BD7CA#32
  | 96 => 0x80000000#32
  | 97 => 0xBF203C85#32
  | 98 => 0xBF79EE89#32
  | 99 => 0xBF659974#32
  | 100 => 0xBED8616C#32
  | 101 => 0x3E7363EE#32
  | 102 => 0x3F4B1934#32
  | 103 => 0x3F7FF067#32
  | 104 => 0x3F441B7D#32
  | 105 => 0x3E47C5C2#32
  | 106 => 0xBEEC6A50#32
  | 107 => 0xBF6A51DA#32
  | 108 => 0xBF7746EA#32
  | 109 => 0xBF176012#32
  | 110 => 0x3D32AA3E#32
  | 111 => 0x3F28CAE3#32
  | 112 => 0x3F7C1C5C#32
  | 113 => 0x3F60712A#32
  | 114 => 0x3EC3EF15#32
  | 115 => 0xBE8F45C0#32
  | 116 => 0xBF51B3F3#32
  | 117 => 0xBF7F73AF#32
  | 118 => 0xBF3CBE35#32
  | 119 => 0xBE1BC63C#32
  | 120 => 0x3F000000#32
  | 121 => 0x3F6E9811#32
  | 122 => 0x3F7426CB#32
  | 123 => 0x3F0E39DA#32
  | 124 => 0xBDB27EB6#32
  | 125 => 0xBF310700#32
  | 126 => 0xBF7DCF55#32
  | 127 => 0xBF5ADB81#32
  | _ => 0#32

noncomputable abbrev lit1t0_70 (i : Nat) : BitVec 32 := match i % 128 with
  | 0 => 0xBEAF1D44#32
  | 1 => 0x3EA493B7#32
  | 2 => 0x3F57E880#32
  | 3 => 0x3F7E7A7A#32
  | 4 => 0x3F3504F3#32
  | 5 => 0x3DDEF599#32
  | 6 => 0xBF098C78#32
  | 7 => 0xBF726A03#32
  | 8 => 0xBF708FB2#32
  | 9 => 0xBF04CE53#32
  | 10 => 0x3E05A8A8#32
  | 11 => 0x3F38ECD8#32
  | 12 => 0x3F7F069E#32
  | 13 => 0x3F54DB31#32
  | 14 => 0x3E99F61C#32
  | 15 => 0xBEB9917B#32
  | 16 => 0xBF5DB3D7#32
  | 17 => 0xBF7D0543#32
  | 18 => 0xBF2CF37B#32
  | 19 => 0xBD85F213#32
  | 20 => 0x3F12D5E8#32
  | 21 => 0x3F75C5D4#32
  | 22 => 0x3F6C835E#32
  | 23 => 0x3EF64429#32
  | 24 => 0xBE31D0D4#32
  | 25 => 0xBF407893#32
  | 26 => 0xBF7FC1A0#32
  | 27 => 0xBF4E7327#32
  | 28 => 0xBE8483EE#32
  | 29 => 0x3ECE34D0#32
  | 30 => 0x3F631324#32
  | 31 => 0x3F7B14BE#32
  | 32 => 0x3F248DBB#32
  | 33 => 0x3CB2B521#32
  | 34 => 0xBF1BD7CA#32
  | 35 => 0xBF78A9E0#32
  | 36 => 0xBF6803CA#32
  | 37 => 0xBEE273AA#32
  | 38 => 0x3E5DA259#32
  | 39 => 0x3F47A682#32
  | 40 => 0x3F800000#32
  | 41 => 0x3F47A682#32
  | 42 => 0x3E5DA259#32
  | 43 => 0xBEE273AA#32
  | 44 => 0xBF6803CA#32
  | 45 => 0xBF78A9E0#32
  | 46 => 0xBF1BD7CA#32
  | 47 => 0x3CB2B521#32
  | 48 => 0x3F248DBB#32
  | 49 => 0x3F7B14BE#32
  | 50 => 0x3F631324#32
  | 51 => 0x3ECE34D0#32
  | 52 => 0xBE8483EE#32
  | 53 => 0xBF4E7327#32
  | 54 => 0xBF7FC1A0#32
  | 55 => 0xBF407893#32
  | 56 => 0xBE31D0D4#32
  | 57 => 0x3EF64429#32
  | 58 => 0x3F6C835E#32
  | 59 => 0x3F75C5D4#32
  | 60 => 0x3F12D5E8#32
  | 61 => 0xBD85F213#32
  | 62 => 0xBF2CF37B#32
  | 63 => 0xBF7D0543#32
  | 64 => 0xBF5DB3D7#32
  | 65 => 0xBEB9917B#32
  | 66 => 0x3E99F61C#32
  | 67 => 0x3F54DB31#32
  | 68 => 0x3F7F069E#32
  | 69 => 0x3F38ECD8#32
  | 70 => 0x3E05A8A8#32
  | 71 => 0xBF04CE53#32
  | 72 => 0xBF708FB2#32
  | 73 => 0xBF726A03#32
  | 74 => 0xBF098C78#32
  | 75 => 0x3DDEF599#32
  | 76 => 0x3F3504F3#32
  | 77 => 0x3F7E7A7A#32
  | 78 => 0x3F57E880#32
  | 79 => 0x3EA493B7#32
  | 80 => 0xBEAF1D44#32
  | 81 => 0xBF5ADB81#32
  | 82 => 0xBF7DCF55#32
  | 83 => 0xBF310700#32
  | 84 => 0xBDB27EB6#32
  | 85 => 0x3F0E39DA#32
  | 86 => 0x3F7426CB#32
  | 87 => 0x3F6E9811#32
  | 88 => 0x3F000000#32
  | 89 => 0xBE1BC63C#32
  | 90 => 0xBF3CBE35#32
  | 91 => 0xBF7F73AF#32
  | 92 => 0xBF51B3F3#32
  | 93 => 0xBE8F45C0#32
  | 94 => 0x3EC3EF15#32
  | 95 => 0x3F60712A#32
  | 96 => 0x3F7C1C5C#32
  | 97 => 0x3F28CAE3#32
  | 98 => 0x3D32AA3E#32
  | 99 => 0xBF176012#32
  | 100 => 0xBF7746EA#32
  | 101 => 0xBF6A51DA#32
  | 102 => 0xBEEC6A50#32
  | 103 => 0x3E47C5C2#32
  | 104 => 0x3F441B7D#32
  | 105 => 0x3F7FF067#32
  | 106 => 0x3F4B1934#32
  | 107 => 0x3E7363EE#32
  | 108 => 0xBED8616C#32
  | 109 => 0xBF659974#32
  | 110 => 0xBF79EE89#32
  | 111 => 0xBF203C85#32
  | 112 => 0xA50D3132#32
  | 113 => 0x3F203C85#32
  | 114 => 0x3F79EE89#32
  | 115 => 0x3F659974#32
  | 116 => 0x3ED8616C#32
  | 117 => 0xBE7363EE#32
  | 118 => 0xBF4B1934#32
  | 119 => 0xBF7FF067#32
  | 120 => 0xBF441B7D#32
  | 121 => 0xBE47C5C2#32
  | 122 => 0x3EEC6A50#32
  | 123 => 0x3F6A51DA#32
  | 124 => 0x3F7746EA#32
  | 125 => 0x3F176012#32
  | 126 => 0xBD32AA3E#32
  | 127 => 0xBF28CAE3#32
  | _ => 0#32

noncomputable abbrev lit1t0_71 (i : Nat) : BitVec 32 := match i % 128 with
  | 0 => 0xBF7C1C5C#32
  | 1 => 0xBF60712A#32
  | 2 => 0xBEC3EF15#32
  | 3 => 0x3E8F45C0#32
  | 4 => 0x3F51B3F3#32
  | 5 => 0x3F7F73AF#32
  | 6 => 0x3F3CBE35#32
  | 7 => 0x3E1BC63C#32
  | 8 => 0xBF000000#32
  | 9 => 0xBF6E9811#32
  | 10 => 0xBF7426CB#32
  | 11 => 0xBF0E39DA#32
  | 12 => 0x3DB27EB6#32
  | 13 => 0x3F310700#32
  | 14 => 0x3F7DCF55#32
  | 15 => 0x3F5ADB81#32
  | 16 => 0x3EAF1D44#32
  | 17 => 0xBEA493B7#32
  | 18 => 0xBF57E880#32
  | 19 => 0xBF7E7A7A#32
  | 20 => 0xBF3504F3#32
  | 21 => 0xBDDEF599#32
  | 22 => 0x3F098C78#32
  | 23 => 0x3F726A03#32
  | 24 => 0x3F708FB2#32
  | 25 => 0x3F04CE53#32
  | 26 => 0xBE05A8A8#32
  | 27 => 0xBF38ECD8#32
  | 28 => 0xBF7F069E#32
  | 29 => 0xBF54DB31#32
  | 30 => 0xBE99F61C#32
  | 31 => 0x3EB9917B#32
  | 32 => 0x3F5DB3D7#32
  | 33 => 0x3F7D0543#32
  | 34 => 0x3F2CF37B#32
  | 35 => 0x3D85F213#32
  | 36 => 0xBF12D5E8#32
  | 37 => 0xBF75C5D4#32
  | 38 => 0xBF6C835E#32
  | 39 => 0xBEF64429#32
  | 40 => 0x3E31D0D4#32
  | 41 => 0x3F407893#32
  | 42 => 0x3F7FC1A0#32
  | 43 => 0x3F4E7327#32
  | 44 => 0x3E8483EE#32
  | 45 => 0xBECE34D0#32
  | 46 => 0xBF631324#32
  | 47 => 0xBF7B14BE#32
  | 48 => 0xBF248DBB#32
  | 49 => 0xBCB2B521#32
  | 50 => 0x3F1BD7CA#32
  | 51 => 0x3F78A9E0#32
  | 52 => 0x3F6803CA#32
  | 53 => 0x3EE273AA#32
  | 54 => 0xBE5DA259#32
  | 55 => 0xBF47A682#32
  | 56 => 0xBF800000#32
  | 57 => 0xBF47A682#32
  | 58 => 0xBE5DA259#32
  | 59 => 0x3EE273AA#32
  | 60 => 0x3F6803CA#32
  | 61 => 0x3F78A9E0#32
  | 62 => 0x3F1BD7CA#32
  | 63 => 0xBCB2B521#32
  | 64 => 0xBF248DBB#32
  | 65 => 0xBF7B14BE#32
  | 66 => 0xBF631324#32
  | 67 => 0xBECE34D0#32
  | 68 => 0x3E8483EE#32
  | 69 => 0x3F4E7327#32
  | 70 => 0x3F7FC1A0#32
  | 71 => 0x3F407893#32
  | 72 => 0x3E31D0D4#32
  | 73 => 0xBEF64429#32
  | 74 => 0xBF6C835E#32
  | 75 => 0xBF75C5D4#32
  | 76 => 0xBF12D5E8#32
  | 77 => 0x3D85F213#32
  | 78 => 0x3F2CF37B#32
  | 79 => 0x3F7D0543#32
  | 80 => 0x3F5DB3D7#32
  | 81 => 0x3EB9917B#32
  | 82 => 0xBE99F61C#32
  | 83 => 0xBF54DB31#32
  | 84 => 0xBF7F069E#32
  | 85 => 0xBF38ECD8#32
  | 86 => 0xBE05A8A8#32
  | 87 => 0x3F04CE53#32
  | 88 => 0x3F708FB2#32
  | 89 => 0x3F726A03#32
  | 90 => 0x3F098C78#32
  | 91 => 0xBDDEF599#32
  | 92 => 0xBF3504F3#32
  | 93 => 0xBF7E7A7A#32
  | 94 => 0xBF57E880#32
  | 95 => 0xBEA493B7#32
  | 96 => 0x3EAF1D44#32
  | 97 => 0x3F5ADB81#32
  | 98 => 0x3F7DCF55#32
  | 99 => 0x3F310700#32
  | 100 => 0x3DB27EB6#32
  | 101 => 0xBF0E39DA#32
  | 102 => 0xBF7426CB#32
  | 103 => 0xBF6E9811#32
  | 104 => 0xBF000000#32
  | 105 => 0x3E1BC63C#32
  | 106 => 0x3F3CBE35#32
  | 107 => 0x3F7F73AF#32
  | 108 => 0x3F51B3F3#32
  | 109 => 0x3E8F45C0#32
  | 110 => 0xBEC3EF15#32
  | 111 => 0xBF60712A#32
  | 112 => 0xBF7C1C5C#32
  | 113 => 0xBF28CAE3#32
  | 114 => 0xBD32AA3E#32
  | 115 => 0x3F176012#32
  | 116 => 0x3F7746EA#32
  | 117 => 0x3F6A51DA#32
  | 118 => 0x3EEC6A50#32
  | 119 => 0xBE47C5C2#32
  | 120 => 0xBF441B7D#32
  | 121 => 0xBF7FF067#32
  | 122 => 0xBF4B1934#32
  | 123 => 0xBE7363EE#32
  | 124 => 0x3ED8616C#32
  | 125 => 0x3F659974#32
  | 126 => 0x3F79EE89#32
  | 127 => 0x3F203C85#32
  | _ => 0#32

noncomputable abbrev lit1t0_72 (i : Nat) : BitVec 32 := match i % 128 with
  | 0 => 0x80000000#32
  | 1 => 0xBF248DBB#32
  | 2 => 0xBF7C1C5C#32
  | 3 => 0xBF5DB3D7#32
  | 4 => 0xBEAF1D44#32
  | 5 => 0x3EAF1D44#32
  | 6 => 0x3F5DB3D7#32
  | 7 => 0x3F7C1C5C#32
  | 8 => 0x3F248DBB#32
  | 9 => 0x80000000#32
  | 10 => 0xBF248DBB#32
  | 11 => 0xBF7C1C5C#32
  | 12 => 0xBF5DB3D7#32
  | 13 => 0xBEAF1D44#32
  | 14 => 0x3EAF1D44#32
  | 15 => 0x3F5DB3D7#32
  | 16 => 0x3F7C1C5C#32
  | 17 => 0x3F248DBB#32
  | 18 => 0x80000000#32
  | 19 => 0xBF248DBB#32
  | 20 => 0xBF7C1C5C#32
  | 21 => 0xBF5DB3D7#32
  | 22 => 0xBEAF1D44#32
  | 23 => 0x3EAF1D44#32
  | 24 => 0x3F5DB3D7#32
  | 25 => 0x3F7C1C5C#32
  | 26 => 0x3F248DBB#32
  | 27 => 0x80000000#32
  | 28 => 0xBF248DBB#32
  | 29 => 0xBF7C1C5C#32
  | 30 => 0xBF5DB3D7#32
  | 31 => 0xBEAF1D44#32
  | 32 => 0x3EAF1D44#32
  | 33 => 0x3F5DB3D7#32
  | 34 => 0x3F7C1C5C#32
  | 35 => 0x3F248DBB#32
  | 36 => 0x80000000#32
  | 37 => 0xBF248DBB#32
  | 38 => 0xBF7C1C5C#32
  | 39 => 0xBF5DB3D7#32
  | 40 => 0xBEAF1D44#32
  | 41 => 0x3EAF1D44#32
  | 42 => 0x3F5DB3D7#32
  | 43 => 0x3F7C1C5C#32
  | 44 => 0x3F248DBB#32
  | 45 => 0x80000000#32
  | 46 => 0xBF248DBB#32
  | 47 => 0xBF7C1C5C#32
  | 48 => 0xBF5DB3D7#32
  | 49 => 0xBEAF1D44#32
  | 50 => 0x3EAF1D44#32
  | 51 => 0x3F5DB3D7#32
  | 52 => 0x3F7C1C5C#32
  | 53 => 0x3F248DBB#32
  | 54 => 0x80000000#32
  | 55 => 0xBF248DBB#32
  | 56 => 0xBF7C1C5C#32
  | 57 => 0xBF5DB3D7#32
  | 58 => 0xBEAF1D44#32
  | 59 => 0x3EAF1D44#32
  | 60 => 0x3F5DB3D7#32
  | 61 => 0x3F7C1C5C#32
  | 62 => 0x3F248DBB#32
  | 63 => 0x80000000#32
  | 64 => 0xBF248DBB#32
  | 65 => 0xBF7C1C5C#32
  | 66 => 0xBF5DB3D7#32
  | 67 => 0xBEAF1D44#32
  | 68 => 0x3EAF1D44#32
  | 69 => 0x3F5DB3D7#32
  | 70 => 0x3F7C1C5C#32
  | 71 => 0x3F248DBB#32
  | 72 => 0x80000000#32
  | 73 => 0xBF248DBB#32
  | 74 => 0xBF7C1C5C#32
  | 75 => 0xBF5DB3D7#32
  | 76 => 0xBEAF1D44#32
  | 77 => 0x3EAF1D44#32
  | 78 => 0x3F5DB3D7#32
  | 79 => 0x3F7C1C5C#32
  | 80 => 0x3F248DBB#32
  | 81 => 0x80000000#32
  | 82 => 0xBF248DBB#32
  | 83 => 0xBF7C1C5C#32
  | 84 => 0xBF5DB3D7#32
  | 85 => 0xBEAF1D44#32
  | 86 => 0x3EAF1D44#32
  | 87 => 0x3F5DB3D7#32
  | 88 => 0x3F7C1C5C#32
  | 89 => 0x3F248DBB#32
  | 90 => 0x80000000#32
  | 91 => 0xBF248DBB#32
  | 92 => 0xBF7C1C5C#32
  | 93 => 0xBF5DB3D7#32
  | 94 => 0xBEAF1D44#32
  | 95 => 0x3EAF1D44#32
  | 96 => 0x3F5DB3D7#32
  | 97 => 0x3F7C1C5C#32
  | 98 => 0x3F248DBB#32
  | 99 => 0x80000000#32
  | 100 => 0xBF248DBB#32
  | 101 => 0xBF7C1C5C#32
  | 102 => 0xBF5DB3D7#32
  | 103 => 0xBEAF1D44#32
  | 104 => 0x3EAF1D44#32
  | 105 => 0x3F5DB3D7#32
  | 106 => 0x3F7C1C5C#32
  | 107 => 0x3F248DBB#32
  | 108 => 0x80000000#32
  | 109 => 0xBF248DBB#32
  | 110 => 0xBF7C1C5C#32
  | 111 => 0xBF5DB3D7#32
  | 112 => 0xBEAF1D44#32
  | 113 => 0x3EAF1D44#32
  | 114 => 0x3F5DB3D7#32
  | 115 => 0x3F7C1C5C#32
  | 116 => 0x3F248DBB#32
  | 117 => 0x80000000#32
  | 118 => 0xBF248DBB#32
  | 119 => 0xBF7C1C5C#32
  | 120 => 0xBF5DB3D7#32
  | 121 => 0xBEAF1D44#32
  | 122 => 0x3EAF1D44#32
  | 123 => 0x3F5DB3D7#32
  | 124 => 0x3F7C1C5C#32
  | 125 => 0x3F248DBB#32
  | 126 => 0x80000000#32
  | 127 => 0xBF248DBB#32
  | _ => 0#32

noncomputable abbrev lit1t0_73 (i : Nat) : BitVec 32 := match i % 128 with
  | 0 => 0xBF7C1C5C#32
  | 1 => 0xBF5DB3D7#32
  | 2 => 0xBEAF1D44#32
  | 3 => 0x3EAF1D44#32
  | 4 => 0x3F5DB3D7#32
  | 5 => 0x3F7C1C5C#32
  | 6 => 0x3F248DBB#32
  | 7 => 0x80000000#32
  | 8 => 0xBF248DBB#32
  | 9 => 0xBF7C1C5C#32
  | 10 => 0xBF5DB3D7#32
  | 11 => 0xBEAF1D44#32
  | 12 => 0x3EAF1D44#32
  | 13 => 0x3F5DB3D7#32
  | 14 => 0x3F7C1C5C#32
  | 15 => 0x3F248DBB#32
  | 16 => 0x80000000#32
  | 17 => 0xBF248DBB#32
  | 18 => 0xBF7C1C5C#32
  | 19 => 0xBF5DB3D7#32
  | 20 => 0xBEAF1D44#32
  | 21 => 0x3EAF1D44#32
  | 22 => 0x3F5DB3D7#32
  | 23 => 0x3F7C1C5C#32
  | 24 => 0x3F248DBB#32
  | 25 => 0x80000000#32
  | 26 => 0xBF248DBB#32
  | 27 => 0xBF7C1C5C#32
  | 28 => 0xBF5DB3D7#32
  | 29 => 0xBEAF1D44#32
  | 30 => 0x3EAF1D44#32
  | 31 => 0x3F5DB3D7#32
  | 32 => 0x3F7C1C5C#32
  | 33 => 0x3F248DBB#32
  | 34 => 0x80000000#32
  | 35 => 0xBF248DBB#32
  | 36 => 0xBF7C1C5C#32
  | 37 => 0xBF5DB3D7#32
  | 38 => 0xBEAF1D44#32
  | 39 => 0x3EAF1D44#32
  | 40 => 0x3F5DB3D7#32
  | 41 => 0x3F7C1C5C#32
  | 42 => 0x3F248DBB#32
  | 43 => 0x80000000#32
  | 44 => 0xBF248DBB#32
  | 45 => 0xBF7C1C5C#32
  | 46 => 0xBF5DB3D7#32
  | 47 => 0xBEAF1D44#32
  | 48 => 0x3EAF1D44#32
  | 49 => 0x3F5DB3D7#32
  | 50 => 0x3F7C1C5C#32
  | 51 => 0x3F248DBB#32
  | 52 => 0x80000000#32
  | 53 => 0xBF248DBB#32
  | 54 => 0xBF7C1C5C#32
  | 55 => 0xBF5DB3D7#32
  | 56 => 0xBEAF1D44#32
  | 57 => 0x3EAF1D44#32
  | 58 => 0x3F5DB3D7#32
  | 59 => 0x3F7C1C5C#32
  | 60 => 0x3F248DBB#32
  | 61 => 0x80000000#32
  | 62 => 0xBF248DBB#32
  | 63 => 0xBF7C1C5C#32
  | 64 => 0xBF5DB3D7#32
  | 65 => 0xBEAF1D44#32
  | 66 => 0x3EAF1D44#32
  | 67 => 0x3F5DB3D7#32
  | 68 => 0x3F7C1C5C#32
  | 69 => 0x3F248DBB#32
  | 70 => 0x80000000#32
  | 71 => 0xBF248DBB#32
  | 72 => 0xBF7C1C5C#32
  | 73 => 0xBF5DB3D7#32
  | 74 => 0xBEAF1D44#32
  | 75 => 0x3EAF1D44#32
  | 76 => 0x3F5DB3D7#32
  | 77 => 0x3F7C1C5C#32
  | 78 => 0x3F248DBB#32
  | 79 => 0x80000000#32
  | 80 => 0xBF248DBB#32
  | 81 => 0xBF7C1C5C#32
  | 82 => 0xBF5DB3D7#32
  | 83 => 0xBEAF1D44#32
  | 84 => 0x3EAF1D44#32
  | 85 => 0x3F5DB3D7#32
  | 86 => 0x3F7C1C5C#32
  | 87 => 0x3F248DBB#32
  | 88 => 0x80000000#32
  | 89 => 0xBF248DBB#32
  | 90 => 0xBF7C1C5C#32
  | 91 => 0xBF5DB3D7#32
  | 92 => 0xBEAF1D44#32
  | 93 => 0x3EAF1D44#32
  | 94 => 0x3F5DB3D7#32
  | 95 => 0x3F7C1C5C#32
  | 96 => 0x3F248DBB#32
  | 97 => 0x80000000#32
  | 98 => 0xBF248DBB#32
  | 99 => 0xBF7C1C5C#32
  | 100 => 0xBF5DB3D7#32
  | 101 => 0xBEAF1D44#32
  | 102 => 0x3EAF1D44#32
  | 103 => 0x3F5DB3D7#32
  | 104 => 0x3F7C1C5C#32
  | 105 => 0x3F248DBB#32
  | 106 => 0x80000000#32
  | 107 => 0xBF248DBB#32
  | 108 => 0xBF7C1C5C#32
  | 109 => 0xBF5DB3D7#32
  | 110 => 0xBEAF1D44#32
  | 111 => 0x3EAF1D44#32
  | 112 => 0x3F5DB3D7#32
  | 113 => 0x3F7C1C5C#32
  | 114 => 0x3F248DBB#32
  | 115 => 0x80000000#32
  | 116 => 0xBF248DBB#32
  | 117 => 0xBF7C1C5C#32
  | 118 => 0xBF5DB3D7#32
  | 119 => 0xBEAF1D44#32
  | 120 => 0x3EAF1D44#32
  | 121 => 0x3F5DB3D7#32
  | 122 => 0x3F7C1C5C#32
  | 123 => 0x3F248DBB#32
  | 124 => 0x80000000#32
  | 125 => 0xBF248DBB#32
  | 126 => 0xBF7C1C5C#32
  | 127 => 0xBF5DB3D7#32
  | _ => 0#32

noncomputable abbrev lit1t0_74 (i : Nat) : BitVec 32 := match i % 128 with
  | 0 => 0xBEAF1D44#32
  | 1 => 0x3EAF1D44#32
  | 2 => 0x3F5DB3D7#32
  | 3 => 0x3F7C1C5C#32
  | 4 => 0x3F248DBB#32
  | 5 => 0x80000000#32
  | 6 => 0xBF248DBB#32
  | 7 => 0xBF7C1C5C#32
  | 8 => 0xBF5DB3D7#32
  | 9 => 0xBEAF1D44#32
  | 10 => 0x3EAF1D44#32
  | 11 => 0x3F5DB3D7#32
  | 12 => 0x3F7C1C5C#32
  | 13 => 0x3F248DBB#32
  | 14 => 0x80000000#32
  | 15 => 0xBF248DBB#32
  | 16 => 0xBF7C1C5C#32
  | 17 => 0xBF5DB3D7#32
  | 18 => 0xBEAF1D44#32
  | 19 => 0x3EAF1D44#32
  | 20 => 0x3F5DB3D7#32
  | 21 => 0x3F7C1C5C#32
  | 22 => 0x3F248DBB#32
  | 23 => 0x80000000#32
  | 24 => 0xBF248DBB#32
  | 25 => 0xBF7C1C5C#32
  | 26 => 0xBF5DB3D7#32
  | 27 => 0xBEAF1D44#32
  | 28 => 0x3EAF1D44#32
  | 29 => 0x3F5DB3D7#32
  | 30 => 0x3F7C1C5C#32
  | 31 => 0x3F248DBB#32
  | 32 => 0x80000000#32
  | 33 => 0xBF28CAE3#32
  | 34 => 0xBF7DCF55#32
  | 35 => 0xBF54DB31#32
  | 36 => 0xBE8483EE#32
  | 37 => 0x3EE273AA#32
  | 38 => 0x3F6C835E#32
  | 39 => 0x3F726A03#32
  | 40 => 0x3F000000#32
  | 41 => 0xBE47C5C2#32
  | 42 => 0xBF4B1934#32
  | 43 => 0xBF7F73AF#32
  | 44 => 0xBF3504F3#32
  | 45 => 0xBD85F213#32
  | 46 => 0x3F1BD7CA#32
  | 47 => 0x3F7B14BE#32
  | 48 => 0x3F5DB3D7#32
  | 49 => 0x3EA493B7#32
  | 50 => 0xBEC3EF15#32
  | 51 => 0xBF659974#32
  | 52 => 0xBF7746EA#32
  | 53 => 0xBF0E39DA#32
  | 54 => 0x3E05A8A8#32
  | 55 => 0x3F407893#32
  | 56 => 0x3F800000#32
  | 57 => 0x3F407893#32
  | 58 => 0x3E05A8A8#32
  | 59 => 0xBF0E39DA#32
  | 60 => 0xBF7746EA#32
  | 61 => 0xBF659974#32
  | 62 => 0xBEC3EF15#32
  | 63 => 0x3EA493B7#32
  | 64 => 0x3F5DB3D7#32
  | 65 => 0x3F7B14BE#32
  | 66 => 0x3F1BD7CA#32
  | 67 => 0xBD85F213#32
  | 68 => 0xBF3504F3#32
  | 69 => 0xBF7F73AF#32
  | 70 => 0xBF4B1934#32
  | 71 => 0xBE47C5C2#32
  | 72 => 0x3F000000#32
  | 73 => 0x3F726A03#32
  | 74 => 0x3F6C835E#32
  | 75 => 0x3EE273AA#32
  | 76 => 0xBE8483EE#32
  | 77 => 0xBF54DB31#32
  | 78 => 0xBF7DCF55#32
  | 79 => 0xBF28CAE3#32
  | 80 => 0xA50D3132#32
  | 81 => 0x3F28CAE3#32
  | 82 => 0x3F7DCF55#32
  | 83 => 0x3F54DB31#32
  | 84 => 0x3E8483EE#32
  | 85 => 0xBEE273AA#32
  | 86 => 0xBF6C835E#32
  | 87 => 0xBF726A03#32
  | 88 => 0xBF000000#32
  | 89 => 0x3E47C5C2#32
  | 90 => 0x3F4B1934#32
  | 91 => 0x3F7F73AF#32
  | 92 => 0x3F3504F3#32
  | 93 => 0x3D85F213#32
  | 94 => 0xBF1BD7CA#32
  | 95 => 0xBF7B14BE#32
  | 96 => 0xBF5DB3D7#32
  | 97 => 0xBEA493B7#32
  | 98 => 0x3EC3EF15#32
  | 99 => 0x3F659974#32
  | 100 => 0x3F7746EA#32
  | 101 => 0x3F0E39DA#32
  | 102 => 0xBE05A8A8#32
  | 103 => 0xBF407893#32
  | 104 => 0xBF800000#32
  | 105 => 0xBF407893#32
  | 106 => 0xBE05A8A8#32
  | 107 => 0x3F0E39DA#32
  | 108 => 0x3F7746EA#32
  | 109 => 0x3F659974#32
  | 110 => 0x3EC3EF15#32
  | 111 => 0xBEA493B7#32
  | 112 => 0xBF5DB3D7#32
  | 113 => 0xBF7B14BE#32
  | 114 => 0xBF1BD7CA#32
  | 115 => 0x3D85F213#32
  | 116 => 0x3F3504F3#32
  | 117 => 0x3F7F73AF#32
  | 118 => 0x3F4B1934#32
  | 119 => 0x3E47C5C2#32
  | 120 => 0xBF000000#32
  | 121 => 0xBF726A03#32
  | 122 => 0xBF6C835E#32
  | 123 => 0xBEE273AA#32
  | 124 => 0x3E8483EE#32
  | 125 => 0x3F54DB31#32
  | 126 => 0x3F7DCF55#32
  | 127 => 0x3F28CAE3#32
  | _ => 0#32

noncomputable abbrev lit1t0_75 (i : Nat) : BitVec 32 := match i % 128 with
  | 0 => 0x80000000#32
  | 1 => 0xBF28CAE3#32
  | 2 => 0xBF7DCF55#32
  | 3 => 0xBF54DB31#32
  | 4 => 0xBE8483EE#32
  | 5 => 0x3EE273AA#32
  | 6 => 0x3F6C835E#32
  | 7 => 0x3F726A03#32
  | 8 => 0x3F000000#32
  | 9 => 0xBE47C5C2#32
  | 10 => 0xBF4B1934#32
  | 11 => 0xBF7F73AF#32
  | 12 => 0xBF3504F3#32
  | 13 => 0xBD85F213#32
  | 14 => 0x3F1BD7CA#32
  | 15 => 0x3F7B14BE#32
  | 16 => 0x3F5DB3D7#32
  | 17 => 0x3EA493B7#32
  | 18 => 0xBEC3EF15#32
  | 19 => 0xBF659974#32
  | 20 => 0xBF7746EA#32
  | 21 => 0xBF0E39DA#32
  | 22 => 0x3E05A8A8#32
  | 23 => 0x3F407893#32
  | 24 => 0x3F800000#32
  | 25 => 0x3F407893#32
  | 26 => 0x3E05A8A8#32
  | 27 => 0xBF0E39DA#32
  | 28 => 0xBF7746EA#32
  | 29 => 0xBF659974#32
  | 30 => 0xBEC3EF15#32
  | 31 => 0x3EA493B7#32
  | 32 => 0x3F5DB3D7#32
  | 33 => 0x3F7B14BE#32
  | 34 => 0x3F1BD7CA#32
  | 35 => 0xBD85F213#32
  | 36 => 0xBF3504F3#32
  | 37 => 0xBF7F73AF#32
  | 38 => 0xBF4B1934#32
  | 39 => 0xBE47C5C2#32
  | 40 => 0x3F000000#32
  | 41 => 0x3F726A03#32
  | 42 => 0x3F6C835E#32
  | 43 => 0x3EE273AA#32
  | 44 => 0xBE8483EE#32
  | 45 => 0xBF54DB31#32
  | 46 => 0xBF7DCF55#32
  | 47 => 0xBF28CAE3#32
  | 48 => 0xA50D3132#32
  | 49 => 0x3F28CAE3#32
  | 50 => 0x3F7DCF55#32
  | 51 => 0x3F54DB31#32
  | 52 => 0x3E8483EE#32
  | 53 => 0xBEE273AA#32
  | 54 => 0xBF6C835E#32
  | 55 => 0xBF726A03#32
  | 56 => 0xBF000000#32
  | 57 => 0x3E47C5C2#32
  | 58 => 0x3F4B1934#32
  | 59 => 0x3F7F73AF#32
  | 60 => 0x3F3504F3#32
  | 61 => 0x3D85F213#32
  | 62 => 0xBF1BD7CA#32
  | 63 => 0xBF7B14BE#32
  | 64 => 0xBF5DB3D7#32
  | 65 => 0xBEA493B7#32
  | 66 => 0x3EC3EF15#32
  | 67 => 0x3F659974#32
  | 68 => 0x3F7746EA#32
  | 69 => 0x3F0E39DA#32
  | 70 => 0xBE05A8A8#32
  | 71 => 0xBF407893#32
  | 72 => 0xBF800000#32
  | 73 => 0xBF407893#32
  | 74 => 0xBE05A8A8#32
  | 75 => 0x3F0E39DA#32
  | 76 => 0x3F7746EA#32
  | 77 => 0x3F659974#32
  | 78 => 0x3EC3EF15#32
  | 79 => 0xBEA493B7#32
  | 80 => 0xBF5DB3D7#32
  | 81 => 0xBF7B14BE#32
  | 82 => 0xBF1BD7CA#32
  | 83 => 0x3D85F213#32
  | 84 => 0x3F3504F3#32
  | 85 => 0x3F7F73AF#32
  | 86 => 0x3F4B1934#32
  | 87 => 0x3E47C5C2#32
  | 88 => 0xBF000000#32
  | 89 => 0xBF726A03#32
  | 90 => 0xBF6C835E#32
  | 91 => 0xBEE273AA#32
  | 92 => 0x3E8483EE#32
  | 93 => 0x3F54DB31#32
  | 94 => 0x3F7DCF55#32
  | 95 => 0x3F28CAE3#32
  | 96 => 0x80000000#32
  | 97 => 0xBF28CAE3#32
  | 98 => 0xBF7DCF55#32
  | 99 => 0xBF54DB31#32
  | 100 => 0xBE8483EE#32
  | 101 => 0x3EE273AA#32
  | 102 => 0x3F6C835E#32
  | 103 => 0x3F726A03#32
  | 104 => 0x3F000000#32
  | 105 => 0xBE47C5C2#32
  | 106 => 0xBF4B1934#32
  | 107 => 0xBF7F73AF#32
  | 108 => 0xBF3504F3#32
  | 109 => 0xBD85F213#32
  | 110 => 0x3F1BD7CA#32
  | 111 => 0x3F7B14BE#32
  | 112 => 0x3F5DB3D7#32
  | 113 => 0x3EA493B7#32
  | 114 => 0xBEC3EF15#32
  | 115 => 0xBF659974#32
  | 116 => 0xBF7746EA#32
  | 117 => 0xBF0E39DA#32
  | 118 => 0x3E05A8A8#32
  | 119 => 0x3F407893#32
  | 120 => 0x3F800000#32
  | 121 => 0x3F407893#32
  | 122 => 0x3E05A8A8#32
  | 123 => 0xBF0E39DA#32
  | 124 => 0xBF7746EA#32
  | 125 => 0xBF659974#32
  | 126 => 0xBEC3EF15#32
  | 127 => 0x3EA493B7#32
  | _ => 0#32

noncomputable abbrev lit1t0_76 (i : Nat) : BitVec 32 := match i % 128 with
  | 0 => 0x3F5DB3D7#32
  | 1 => 0x3F7B14BE#32
  | 2 => 0x3F1BD7CA#32
  | 3 => 0xBD85F213#32
  | 4 => 0xBF3504F3#32
  | 5 => 0xBF7F73AF#32
  | 6 => 0xBF4B1934#32
  | 7 => 0xBE47C5C2#32
  | 8 => 0x3F000000#32
  | 9 => 0x3F726A03#32
  | 10 => 0x3F6C835E#32
  | 11 => 0x3EE273AA#32
  | 12 => 0xBE8483EE#32
  | 13 => 0xBF54DB31#32
  | 14 => 0xBF7DCF55#32
  | 15 => 0xBF28CAE3#32
  | 16 => 0xA50D3132#32
  | 17 => 0x3F28CAE3#32
  | 18 => 0x3F7DCF55#32
  | 19 => 0x3F54DB31#32
  | 20 => 0x3E8483EE#32
  | 21 => 0xBEE273AA#32
  | 22 => 0xBF6C835E#32
  | 23 => 0xBF726A03#32
  | 24 => 0xBF000000#32
  | 25 => 0x3E47C5C2#32
  | 26 => 0x3F4B1934#32
  | 27 => 0x3F7F73AF#32
  | 28 => 0x3F3504F3#32
  | 29 => 0x3D85F213#32
  | 30 => 0xBF1BD7CA#32
  | 31 => 0xBF7B14BE#32
  | 32 => 0xBF5DB3D7#32
  | 33 => 0xBEA493B7#32
  | 34 => 0x3EC3EF15#32
  | 35 => 0x3F659974#32
  | 36 => 0x3F7746EA#32
  | 37 => 0x3F0E39DA#32
  | 38 => 0xBE05A8A8#32
  | 39 => 0xBF407893#32
  | 40 => 0xBF800000#32
  | 41 => 0xBF407893#32
  | 42 => 0xBE05A8A8#32
  | 43 => 0x3F0E39DA#32
  | 44 => 0x3F7746EA#32
  | 45 => 0x3F659974#32
  | 46 => 0x3EC3EF15#32
  | 47 => 0xBEA493B7#32
  | 48 => 0xBF5DB3D7#32
  | 49 => 0xBF7B14BE#32
  | 50 => 0xBF1BD7CA#32
  | 51 => 0x3D85F213#32
  | 52 => 0x3F3504F3#32
  | 53 => 0x3F7F73AF#32
  | 54 => 0x3F4B1934#32
  | 55 => 0x3E47C5C2#32
  | 56 => 0xBF000000#32
  | 57 => 0xBF726A03#32
  | 58 => 0xBF6C835E#32
  | 59 => 0xBEE273AA#32
  | 60 => 0x3E8483EE#32
  | 61 => 0x3F54DB31#32
  | 62 => 0x3F7DCF55#32
  | 63 => 0x3F28CAE3#32
  | 64 => 0x80000000#32
  | 65 => 0xBF2CF37B#32
  | 66 => 0xBF7F069E#32
  | 67 => 0xBF4B1934#32
  | 68 => 0xBE31D0D4#32
  | 69 => 0x3F098C78#32
  | 70 => 0x3F7746EA#32
  | 71 => 0x3F631324#32
  | 72 => 0x3EAF1D44#32
  | 73 => 0xBEC3EF15#32
  | 74 => 0xBF6803CA#32
  | 75 => 0xBF7426CB#32
  | 76 => 0xBF000000#32
  | 77 => 0x3E5DA259#32
  | 78 => 0x3F51B3F3#32
  | 79 => 0x3F7DCF55#32
  | 80 => 0x3F248DBB#32
  | 81 => 0xBD32AA3E#32
  | 82 => 0xBF3504F3#32
  | 83 => 0xBF7FC1A0#32
  | 84 => 0xBF441B7D#32
  | 85 => 0xBE05A8A8#32
  | 86 => 0x3F12D5E8#32
  | 87 => 0x3F79EE89#32
  | 88 => 0x3F5DB3D7#32
  | 89 => 0x3E99F61C#32
  | 90 => 0xBED8616C#32
  | 91 => 0xBF6C835E#32
  | 92 => 0xBF708FB2#32
  | 93 => 0xBEEC6A50#32
  | 94 => 0x3E8483EE#32
  | 95 => 0x3F57E880#32
  | 96 => 0x3F7C1C5C#32
  | 97 => 0x3F1BD7CA#32
  | 98 => 0xBDB27EB6#32
  | 99 => 0xBF3CBE35#32
  | 100 => 0xBF800000#32
  | 101 => 0xBF3CBE35#32
  | 102 => 0xBDB27EB6#32
  | 103 => 0x3F1BD7CA#32
  | 104 => 0x3F7C1C5C#32
  | 105 => 0x3F57E880#32
  | 106 => 0x3E8483EE#32
  | 107 => 0xBEEC6A50#32
  | 108 => 0xBF708FB2#32
  | 109 => 0xBF6C835E#32
  | 110 => 0xBED8616C#32
  | 111 => 0x3E99F61C#32
  | 112 => 0x3F5DB3D7#32
  | 113 => 0x3F79EE89#32
  | 114 => 0x3F12D5E8#32
  | 115 => 0xBE05A8A8#32
  | 116 => 0xBF441B7D#32
  | 117 => 0xBF7FC1A0#32
  | 118 => 0xBF3504F3#32
  | 119 => 0xBD32AA3E#32
  | 120 => 0x3F248DBB#32
  | 121 => 0x3F7DCF55#32
  | 122 => 0x3F51B3F3#32
  | 123 => 0x3E5DA259#32
  | 124 => 0xBF000000#32
  | 125 => 0xBF7426CB#32
  | 126 => 0xBF6803CA#32
  | 127 => 0xBEC3EF15#32
  | _ => 0#32

noncomputable abbrev lit1t0_77 (i : Nat) : BitVec 32 := match i % 128 with
  | 0 => 0x3EAF1D44#32
  | 1 => 0x3F631324#32
  | 2 => 0x3F7746EA#32
  | 3 => 0x3F098C78#32
  | 4 => 0xBE31D0D4#32
  | 5 => 0xBF4B1934#32
  | 6 => 0xBF7F069E#32
  | 7 => 0xBF2CF37B#32
  | 8 => 0xA50D3132#32
  | 9 => 0x3F2CF37B#32
  | 10 => 0x3F7F069E#32
  | 11 => 0x3F4B1934#32
  | 12 => 0x3E31D0D4#32
  | 13 => 0xBF098C78#32
  | 14 => 0xBF7746EA#32
  | 15 => 0xBF631324#32
  | 16 => 0xBEAF1D44#32
  | 17 => 0x3EC3EF15#32
  | 18 => 0x3F6803CA#32
  | 19 => 0x3F7426CB#32
  | 20 => 0x3F000000#32
  | 21 => 0xBE5DA259#32
  | 22 => 0xBF51B3F3#32
  | 23 => 0xBF7DCF55#32
  | 24 => 0xBF248DBB#32
  | 25 => 0x3D32AA3E#32
  | 26 => 0x3F3504F3#32
  | 27 => 0x3F7FC1A0#32
  | 28 => 0x3F441B7D#32
  | 29 => 0x3E05A8A8#32
  | 30 => 0xBF12D5E8#32
  | 31 => 0xBF79EE89#32
  | 32 => 0xBF5DB3D7#32
  | 33 => 0xBE99F61C#32
  | 34 => 0x3ED8616C#32
  | 35 => 0x3F6C835E#32
  | 36 => 0x3F708FB2#32
  | 37 => 0x3EEC6A50#32
  | 38 => 0xBE8483EE#32
  | 39 => 0xBF57E880#32
  | 40 => 0xBF7C1C5C#32
  | 41 => 0xBF1BD7CA#32
  | 42 => 0x3DB27EB6#32
  | 43 => 0x3F3CBE35#32
  | 44 => 0x3F800000#32
  | 45 => 0x3F3CBE35#32
  | 46 => 0x3DB27EB6#32
  | 47 => 0xBF1BD7CA#32
  | 48 => 0xBF7C1C5C#32
  | 49 => 0xBF57E880#32
  | 50 => 0xBE8483EE#32
  | 51 => 0x3EEC6A50#32
  | 52 => 0x3F708FB2#32
  | 53 => 0x3F6C835E#32
  | 54 => 0x3ED8616C#32
  | 55 => 0xBE99F61C#32
  | 56 => 0xBF5DB3D7#32
  | 57 => 0xBF79EE89#32
  | 58 => 0xBF12D5E8#32
  | 59 => 0x3E05A8A8#32
  | 60 => 0x3F441B7D#32
  | 61 => 0x3F7FC1A0#32
  | 62 => 0x3F3504F3#32
  | 63 => 0x3D32AA3E#32
  | 64 => 0xBF248DBB#32
  | 65 => 0xBF7DCF55#32
  | 66 => 0xBF51B3F3#32
  | 67 => 0xBE5DA259#32
  | 68 => 0x3F000000#32
  | 69 => 0x3F7426CB#32
  | 70 => 0x3F6803CA#32
  | 71 => 0x3EC3EF15#32
  | 72 => 0xBEAF1D44#32
  | 73 => 0xBF631324#32
  | 74 => 0xBF7746EA#32
  | 75 => 0xBF098C78#32
  | 76 => 0x3E31D0D4#32
  | 77 => 0x3F4B1934#32
  | 78 => 0x3F7F069E#32
  | 79 => 0x3F2CF37B#32
  | 80 => 0x80000000#32
  | 81 => 0xBF2CF37B#32
  | 82 => 0xBF7F069E#32
  | 83 => 0xBF4B1934#32
  | 84 => 0xBE31D0D4#32
  | 85 => 0x3F098C78#32
  | 86 => 0x3F7746EA#32
  | 87 => 0x3F631324#32
  | 88 => 0x3EAF1D44#32
  | 89 => 0xBEC3EF15#32
  | 90 => 0xBF6803CA#32
  | 91 => 0xBF7426CB#32
  | 92 => 0xBF000000#32
  | 93 => 0x3E5DA259#32
  | 94 => 0x3F51B3F3#32
  | 95 => 0x3F7DCF55#32
  | 96 => 0x3F248DBB#32
  | 97 => 0xBD32AA3E#32
  | 98 => 0xBF3504F3#32
  | 99 => 0xBF7FC1A0#32
  | 100 => 0xBF441B7D#32
  | 101 => 0xBE05A8A8#32
  | 102 => 0x3F12D5E8#32
  | 103 => 0x3F79EE89#32
  | 104 => 0x3F5DB3D7#32
  | 105 => 0x3E99F61C#32
  | 106 => 0xBED8616C#32
  | 107 => 0xBF6C835E#32
  | 108 => 0xBF708FB2#32
  | 109 => 0xBEEC6A50#32
  | 110 => 0x3E8483EE#32
  | 111 => 0x3F57E880#32
  | 112 => 0x3F7C1C5C#32
  | 113 => 0x3F1BD7CA#32
  | 114 => 0xBDB27EB6#32
  | 115 => 0xBF3CBE35#32
  | 116 => 0xBF800000#32
  | 117 => 0xBF3CBE35#32
  | 118 => 0xBDB27EB6#32
  | 119 => 0x3F1BD7CA#32
  | 120 => 0x3F7C1C5C#32
  | 121 => 0x3F57E880#32
  | 122 => 0x3E8483EE#32
  | 123 => 0xBEEC6A50#32
  | 124 => 0xBF708FB2#32
  | 125 => 0xBF6C835E#32
  | 126 => 0xBED8616C#32
  | 127 => 0x3E99F61C#32
  | _ => 0#32

noncomputable abbrev lit1t0_78 (i : Nat) : BitVec 32 := match i % 128 with
  | 0 => 0x3F5DB3D7#32
  | 1 => 0x3F79EE89#32
  | 2 => 0x3F12D5E8#32
  | 3 => 0xBE05A8A8#32
  | 4 => 0xBF441B7D#32
  | 5 => 0xBF7FC1A0#32
  | 6 => 0xBF3504F3#32
  | 7 => 0xBD32AA3E#32
  | 8 => 0x3F248DBB#32
  | 9 => 0x3F7DCF55#32
  | 10 => 0x3F51B3F3#32
  | 11 => 0x3E5DA259#32
  | 12 => 0xBF000000#32
  | 13 => 0xBF7426CB#32
  | 14 => 0xBF6803CA#32
  | 15 => 0xBEC3EF15#32
  | 16 => 0x3EAF1D44#32
  | 17 => 0x3F631324#32
  | 18 => 0x3F7746EA#32
  | 19 => 0x3F098C78#32
  | 20 => 0xBE31D0D4#32
  | 21 => 0xBF4B1934#32
  | 22 => 0xBF7F069E#32
  | 23 => 0xBF2CF37B#32
  | 24 => 0xA50D3132#32
  | 25 => 0x3F2CF37B#32
  | 26 => 0x3F7F069E#32
  | 27 => 0x3F4B1934#32
  | 28 => 0x3E31D0D4#32
  | 29 => 0xBF098C78#32
  | 30 => 0xBF7746EA#32
  | 31 => 0xBF631324#32
  | 32 => 0xBEAF1D44#32
  | 33 => 0x3EC3EF15#32
  | 34 => 0x3F6803CA#32
  | 35 => 0x3F7426CB#32
  | 36 => 0x3F000000#32
  | 37 => 0xBE5DA259#32
  | 38 => 0xBF51B3F3#32
  | 39 => 0xBF7DCF55#32
  | 40 => 0xBF248DBB#32
  | 41 => 0x3D32AA3E#32
  | 42 => 0x3F3504F3#32
  | 43 => 0x3F7FC1A0#32
  | 44 => 0x3F441B7D#32
  | 45 => 0x3E05A8A8#32
  | 46 => 0xBF12D5E8#32
  | 47 => 0xBF79EE89#32
  | 48 => 0xBF5DB3D7#32
  | 49 => 0xBE99F61C#32
  | 50 => 0x3ED8616C#32
  | 51 => 0x3F6C835E#32
  | 52 => 0x3F708FB2#32
  | 53 => 0x3EEC6A50#32
  | 54 => 0xBE8483EE#32
  | 55 => 0xBF57E880#32
  | 56 => 0xBF7C1C5C#32
  | 57 => 0xBF1BD7CA#32
  | 58 => 0x3DB27EB6#32
  | 59 => 0x3F3CBE35#32
  | 60 => 0x3F800000#32
  | 61 => 0x3F3CBE35#32
  | 62 => 0x3DB27EB6#32
  | 63 => 0xBF1BD7CA#32
  | 64 => 0xBF7C1C5C#32
  | 65 => 0xBF57E880#32
  | 66 => 0xBE8483EE#32
  | 67 => 0x3EEC6A50#32
  | 68 => 0x3F708FB2#32
  | 69 => 0x3F6C835E#32
  | 70 => 0x3ED8616C#32
  | 71 => 0xBE99F61C#32
  | 72 => 0xBF5DB3D7#32
  | 73 => 0xBF79EE89#32
  | 74 => 0xBF12D5E8#32
  | 75 => 0x3E05A8A8#32
  | 76 => 0x3F441B7D#32
  | 77 => 0x3F7FC1A0#32
  | 78 => 0x3F3504F3#32
  | 79 => 0x3D32AA3E#32
  | 80 => 0xBF248DBB#32
  | 81 => 0xBF7DCF55#32
  | 82 => 0xBF51B3F3#32
  | 83 => 0xBE5DA259#32
  | 84 => 0x3F000000#32
  | 85 => 0x3F7426CB#32
  | 86 => 0x3F6803CA#32
  | 87 => 0x3EC3EF15#32
  | 88 => 0xBEAF1D44#32
  | 89 => 0xBF631324#32
  | 90 => 0xBF7746EA#32
  | 91 => 0xBF098C78#32
  | 92 => 0x3E31D0D4#32
  | 93 => 0x3F4B1934#32
  | 94 => 0x3F7F069E#32
  | 95 => 0x3F2CF37B#32
  | 96 => 0x80000000#32
  | 97 => 0xBF310700#32
  | 98 => 0xBF7FC1A0#32
  | 99 => 0xBF407893#32
  | 100 => 0xBDB27EB6#32
  | 101 => 0x3F203C85#32
  | 102 => 0x3F7DCF55#32
  | 103 => 0x3F4E7327#32
  | 104 => 0x3E31D0D4#32
  | 105 => 0xBF0E39DA#32
  | 106 => 0xBF79EE89#32
  | 107 => 0xBF5ADB81#32
  | 108 => 0xBE8483EE#32
  | 109 => 0x3EF64429#32
  | 110 => 0x3F7426CB#32
  | 111 => 0x3F659974#32
  | 112 => 0x3EAF1D44#32
  | 113 => 0xBECE34D0#32
  | 114 => 0xBF6C835E#32
  | 115 => 0xBF6E9811#32
  | 116 => 0xBED8616C#32
  | 117 => 0x3EA493B7#32
  | 118 => 0x3F631324#32
  | 119 => 0x3F75C5D4#32
  | 120 => 0x3F000000#32
  | 121 => 0xBE7363EE#32
  | 122 => 0xBF57E880#32
  | 123 => 0xBF7B14BE#32
  | 124 => 0xBF12D5E8#32
  | 125 => 0x3E1BC63C#32
  | 126 => 0x3F4B1934#32
  | 127 => 0x3F7E7A7A#32
  | _ => 0#32

noncomputable abbrev lit1t0_79 (i : Nat) : BitVec 32 := match i % 128 with
  | 0 => 0x3F248DBB#32
  | 1 => 0xBD85F213#32
  | 2 => 0xBF3CBE35#32
  | 3 => 0xBF7FF067#32
  | 4 => 0xBF3504F3#32
  | 5 => 0xBCB2B521#32
  | 6 => 0x3F2CF37B#32
  | 7 => 0x3F7F73AF#32
  | 8 => 0x3F441B7D#32
  | 9 => 0x3DDEF599#32
  | 10 => 0xBF1BD7CA#32
  | 11 => 0xBF7D0543#32
  | 12 => 0xBF51B3F3#32
  | 13 => 0xBE47C5C2#32
  | 14 => 0x3F098C78#32
  | 15 => 0x3F78A9E0#32
  | 16 => 0x3F5DB3D7#32
  | 17 => 0x3E8F45C0#32
  | 18 => 0xBEEC6A50#32
  | 19 => 0xBF726A03#32
  | 20 => 0xBF6803CA#32
  | 21 => 0xBEB9917B#32
  | 22 => 0x3EC3EF15#32
  | 23 => 0x3F6A51DA#32
  | 24 => 0x3F708FB2#32
  | 25 => 0x3EE273AA#32
  | 26 => 0xBE99F61C#32
  | 27 => 0xBF60712A#32
  | 28 => 0xBF7746EA#32
  | 29 => 0xBF04CE53#32
  | 30 => 0x3E5DA259#32
  | 31 => 0x3F54DB31#32
  | 32 => 0x3F7C1C5C#32
  | 33 => 0x3F176012#32
  | 34 => 0xBE05A8A8#32
  | 35 => 0xBF47A682#32
  | 36 => 0xBF7F069E#32
  | 37 => 0xBF28CAE3#32
  | 38 => 0x3D32AA3E#32
  | 39 => 0x3F38ECD8#32
  | 40 => 0x3F800000#32
  | 41 => 0x3F38ECD8#32
  | 42 => 0x3D32AA3E#32
  | 43 => 0xBF28CAE3#32
  | 44 => 0xBF7F069E#32
  | 45 => 0xBF47A682#32
  | 46 => 0xBE05A8A8#32
  | 47 => 0x3F176012#32
  | 48 => 0x3F7C1C5C#32
  | 49 => 0x3F54DB31#32
  | 50 => 0x3E5DA259#32
  | 51 => 0xBF04CE53#32
  | 52 => 0xBF7746EA#32
  | 53 => 0xBF60712A#32
  | 54 => 0xBE99F61C#32
  | 55 => 0x3EE273AA#32
  | 56 => 0x3F708FB2#32
  | 57 => 0x3F6A51DA#32
  | 58 => 0x3EC3EF15#32
  | 59 => 0xBEB9917B#32
  | 60 => 0xBF6803CA#32
  | 61 => 0xBF726A03#32
  | 62 => 0xBEEC6A50#32
  | 63 => 0x3E8F45C0#32
  | 64 => 0x3F5DB3D7#32
  | 65 => 0x3F78A9E0#32
  | 66 => 0x3F098C78#32
  | 67 => 0xBE47C5C2#32
  | 68 => 0xBF51B3F3#32
  | 69 => 0xBF7D0543#32
  | 70 => 0xBF1BD7CA#32
  | 71 => 0x3DDEF599#32
  | 72 => 0x3F441B7D#32
  | 73 => 0x3F7F73AF#32
  | 74 => 0x3F2CF37B#32
  | 75 => 0xBCB2B521#32
  | 76 => 0xBF3504F3#32
  | 77 => 0xBF7FF067#32
  | 78 => 0xBF3CBE35#32
  | 79 => 0xBD85F213#32
  | 80 => 0x3F248DBB#32
  | 81 => 0x3F7E7A7A#32
  | 82 => 0x3F4B1934#32
  | 83 => 0x3E1BC63C#32
  | 84 => 0xBF12D5E8#32
  | 85 => 0xBF7B14BE#32
  | 86 => 0xBF57E880#32
  | 87 => 0xBE7363EE#32
  | 88 => 0x3F000000#32
  | 89 => 0x3F75C5D4#32
  | 90 => 0x3F631324#32
  | 91 => 0x3EA493B7#32
  | 92 => 0xBED8616C#32
  | 93 => 0xBF6E9811#32
  | 94 => 0xBF6C835E#32
  | 95 => 0xBECE34D0#32
  | 96 => 0x3EAF1D44#32
  | 97 => 0x3F659974#32
  | 98 => 0x3F7426CB#32
  | 99 => 0x3EF64429#32
  | 100 => 0xBE8483EE#32
  | 101 => 0xBF5ADB81#32
  | 102 => 0xBF79EE89#32
  | 103 => 0xBF0E39DA#32
  | 104 => 0x3E31D0D4#32
  | 105 => 0x3F4E7327#32
  | 106 => 0x3F7DCF55#32
  | 107 => 0x3F203C85#32
  | 108 => 0xBDB27EB6#32
  | 109 => 0xBF407893#32
  | 110 => 0xBF7FC1A0#32
  | 111 => 0xBF310700#32
  | 112 => 0xA50D3132#32
  | 113 => 0x3F310700#32
  | 114 => 0x3F7FC1A0#32
  | 115 => 0x3F407893#32
  | 116 => 0x3DB27EB6#32
  | 117 => 0xBF203C85#32
  | 118 => 0xBF7DCF55#32
  | 119 => 0xBF4E7327#32
  | 120 => 0xBE31D0D4#32
  | 121 => 0x3F0E39DA#32
  | 122 => 0x3F79EE89#32
  | 123 => 0x3F5ADB81#32
  | 124 => 0x3E8483EE#32
  | 125 => 0xBEF64429#32
  | 126 => 0xBF7426CB#32
  | 127 => 0xBF659974#32
  | _ => 0#32

noncomputable abbrev lit1t0_80 (i : Nat) : BitVec 32 := match i % 128 with
  | 0 => 0xBEAF1D44#32
  | 1 => 0x3ECE34D0#32
  | 2 => 0x3F6C835E#32
  | 3 => 0x3F6E9811#32
  | 4 => 0x3ED8616C#32
  | 5 => 0xBEA493B7#32
  | 6 => 0xBF631324#32
  | 7 => 0xBF75C5D4#32
  | 8 => 0xBF000000#32
  | 9 => 0x3E7363EE#32
  | 10 => 0x3F57E880#32
  | 11 => 0x3F7B14BE#32
  | 12 => 0x3F12D5E8#32
  | 13 => 0xBE1BC63C#32
  | 14 => 0xBF4B1934#32
  | 15 => 0xBF7E7A7A#32
  | 16 => 0xBF248DBB#32
  | 17 => 0x3D85F213#32
  | 18 => 0x3F3CBE35#32
  | 19 => 0x3F7FF067#32
  | 20 => 0x3F3504F3#32
  | 21 => 0x3CB2B521#32
  | 22 => 0xBF2CF37B#32
  | 23 => 0xBF7F73AF#32
  | 24 => 0xBF441B7D#32
  | 25 => 0xBDDEF599#32
  | 26 => 0x3F1BD7CA#32
  | 27 => 0x3F7D0543#32
  | 28 => 0x3F51B3F3#32
  | 29 => 0x3E47C5C2#32
  | 30 => 0xBF098C78#32
  | 31 => 0xBF78A9E0#32
  | 32 => 0xBF5DB3D7#32
  | 33 => 0xBE8F45C0#32
  | 34 => 0x3EEC6A50#32
  | 35 => 0x3F726A03#32
  | 36 => 0x3F6803CA#32
  | 37 => 0x3EB9917B#32
  | 38 => 0xBEC3EF15#32
  | 39 => 0xBF6A51DA#32
  | 40 => 0xBF708FB2#32
  | 41 => 0xBEE273AA#32
  | 42 => 0x3E99F61C#32
  | 43 => 0x3F60712A#32
  | 44 => 0x3F7746EA#32
  | 45 => 0x3F04CE53#32
  | 46 => 0xBE5DA259#32
  | 47 => 0xBF54DB31#32
  | 48 => 0xBF7C1C5C#32
  | 49 => 0xBF176012#32
  | 50 => 0x3E05A8A8#32
  | 51 => 0x3F47A682#32
  | 52 => 0x3F7F069E#32
  | 53 => 0x3F28CAE3#32
  | 54 => 0xBD32AA3E#32
  | 55 => 0xBF38ECD8#32
  | 56 => 0xBF800000#32
  | 57 => 0xBF38ECD8#32
  | 58 => 0xBD32AA3E#32
  | 59 => 0x3F28CAE3#32
  | 60 => 0x3F7F069E#32
  | 61 => 0x3F47A682#32
  | 62 => 0x3E05A8A8#32
  | 63 => 0xBF176012#32
  | 64 => 0xBF7C1C5C#32
  | 65 => 0xBF54DB31#32
  | 66 => 0xBE5DA259#32
  | 67 => 0x3F04CE53#32
  | 68 => 0x3F7746EA#32
  | 69 => 0x3F60712A#32
  | 70 => 0x3E99F61C#32
  | 71 => 0xBEE273AA#32
  | 72 => 0xBF708FB2#32
  | 73 => 0xBF6A51DA#32
  | 74 => 0xBEC3EF15#32
  | 75 => 0x3EB9917B#32
  | 76 => 0x3F6803CA#32
  | 77 => 0x3F726A03#32
  | 78 => 0x3EEC6A50#32
  | 79 => 0xBE8F45C0#32
  | 80 => 0xBF5DB3D7#32
  | 81 => 0xBF78A9E0#32
  | 82 => 0xBF098C78#32
  | 83 => 0x3E47C5C2#32
  | 84 => 0x3F51B3F3#32
  | 85 => 0x3F7D0543#32
  | 86 => 0x3F1BD7CA#32
  | 87 => 0xBDDEF599#32
  | 88 => 0xBF441B7D#32
  | 89 => 0xBF7F73AF#32
  | 90 => 0xBF2CF37B#32
  | 91 => 0x3CB2B521#32
  | 92 => 0x3F3504F3#32
  | 93 => 0x3F7FF067#32
  | 94 => 0x3F3CBE35#32
  | 95 => 0x3D85F213#32
  | 96 => 0xBF248DBB#32
  | 97 => 0xBF7E7A7A#32
  | 98 => 0xBF4B1934#32
  | 99 => 0xBE1BC63C#32
  | 100 => 0x3F12D5E8#32
  | 101 => 0x3F7B14BE#32
  | 102 => 0x3F57E880#32
  | 103 => 0x3E7363EE#32
  | 104 => 0xBF000000#32
  | 105 => 0xBF75C5D4#32
  | 106 => 0xBF631324#32
  | 107 => 0xBEA493B7#32
  | 108 => 0x3ED8616C#32
  | 109 => 0x3F6E9811#32
  | 110 => 0x3F6C835E#32
  | 111 => 0x3ECE34D0#32
  | 112 => 0xBEAF1D44#32
  | 113 => 0xBF659974#32
  | 114 => 0xBF7426CB#32
  | 115 => 0xBEF64429#32
  | 116 => 0x3E8483EE#32
  | 117 => 0x3F5ADB81#32
  | 118 => 0x3F79EE89#32
  | 119 => 0x3F0E39DA#32
  | 120 => 0xBE31D0D4#32
  | 121 => 0xBF4E7327#32
  | 122 => 0xBF7DCF55#32
  | 123 => 0xBF203C85#32
  | 124 => 0x3DB27EB6#32
  | 125 => 0x3F407893#32
  | 126 => 0x3F7FC1A0#32
  | 127 => 0x3F310700#32
  | _ => 0#32

noncomputable abbrev lit1t0_81 (i : Nat) : BitVec 32 := match i % 128 with
  | 0 => 0x80000000#32
  | 1 => 0xBF3504F3#32
  | 2 => 0xBF800000#32
  | 3 => 0xBF3504F3#32
  | 4 => 0xA50D3132#32
  | 5 => 0x3F3504F3#32
  | 6 => 0x3F800000#32
  | 7 => 0x3F3504F3#32
  | 8 => 0x80000000#32
  | 9 => 0xBF3504F3#32
  | 10 => 0xBF800000#32
  | 11 => 0xBF3504F3#32
  | 12 => 0xA50D3132#32
  | 13 => 0x3F3504F3#32
  | 14 => 0x3F800000#32
  | 15 => 0x3F3504F3#32
  | 16 => 0x80000000#32
  | 17 => 0xBF3504F3#32
  | 18 => 0xBF800000#32
  | 19 => 0xBF3504F3#32
  | 20 => 0xA50D3132#32
  | 21 => 0x3F3504F3#32
  | 22 => 0x3F800000#32
  | 23 => 0x3F3504F3#32
  | 24 => 0x80000000#32
  | 25 => 0xBF3504F3#32
  | 26 => 0xBF800000#32
  | 27 => 0xBF3504F3#32
  | 28 => 0xA50D3132#32
  | 29 => 0x3F3504F3#32
  | 30 => 0x3F800000#32
  | 31 => 0x3F3504F3#32
  | 32 => 0x80000000#32
  | 33 => 0xBF3504F3#32
  | 34 => 0xBF800000#32
  | 35 => 0xBF3504F3#32
  | 36 => 0xA50D3132#32
  | 37 => 0x3F3504F3#32
  | 38 => 0x3F800000#32
  | 39 => 0x3F3504F3#32
  | 40 => 0x80000000#32
  | 41 => 0xBF3504F3#32
  | 42 => 0xBF800000#32
  | 43 => 0xBF3504F3#32
  | 44 => 0xA50D3132#32
  | 45 => 0x3F3504F3#32
  | 46 => 0x3F800000#32
  | 47 => 0x3F3504F3#32
  | 48 => 0x80000000#32
  | 49 => 0xBF3504F3#32
  | 50 => 0xBF800000#32
  | 51 => 0xBF3504F3#32
  | 52 => 0xA50D3132#32
  | 53 => 0x3F3504F3#32
  | 54 => 0x3F800000#32
  | 55 => 0x3F3504F3#32
  | 56 => 0x80000000#32
  | 57 => 0xBF3504F3#32
  | 58 => 0xBF800000#32
  | 59 => 0xBF3504F3#32
  | 60 => 0xA50D3132#32
  | 61 => 0x3F3504F3#32
  | 62 => 0x3F800000#32
  | 63 => 0x3F3504F3#32
  | 64 => 0x80000000#32
  | 65 => 0xBF3504F3#32
  | 66 => 0xBF800000#32
  | 67 => 0xBF3504F3#32
  | 68 => 0xA50D3132#32
  | 69 => 0x3F3504F3#32
  | 70 => 0x3F800000#32
  | 71 => 0x3F3504F3#32
  | 72 => 0x80000000#32
  | 73 => 0xBF3504F3#32
  | 74 => 0xBF800000#32
  | 75 => 0xBF3504F3#32
  | 76 => 0xA50D3132#32
  | 77 => 0x3F3504F3#32
  | 78 => 0x3F800000#32
  | 79 => 0x3F3504F3#32
  | 80 => 0x80000000#32
  | 81 => 0xBF3504F3#32
  | 82 => 0xBF800000#32
  | 83 => 0xBF3504F3#32
  | 84 => 0xA50D3132#32
  | 85 => 0x3F3504F3#32
  | 86 => 0x3F800000#32
  | 87 => 0x3F3504F3#32
  | 88 => 0x80000000#32
  | 89 => 0xBF3504F3#32
  | 90 => 0xBF800000#32
  | 91 => 0xBF3504F3#32
  | 92 => 0xA50D3132#32
  | 93 => 0x3F3504F3#32
  | 94 => 0x3F800000#32
  | 95 => 0x3F3504F3#32
  | 96 => 0x80000000#32
  | 97 => 0xBF3504F3#32
  | 98 => 0xBF800000#32
  | 99 => 0xBF3504F3#32
  | 100 => 0xA50D3132#32
  | 101 => 0x3F3504F3#32
  | 102 => 0x3F800000#32
  | 103 => 0x3F3504F3#32
  | 104 => 0x80000000#32
  | 105 => 0xBF3504F3#32
  | 106 => 0xBF800000#32
  | 107 => 0xBF3504F3#32
  | 108 => 0xA50D3132#32
  | 109 => 0x3F3504F3#32
  | 110 => 0x3F800000#32
  | 111 => 0x3F3504F3#32
  | 112 => 0x80000000#32
  | 113 => 0xBF3504F3#32
  | 114 => 0xBF800000#32
  | 115 => 0xBF3504F3#32
  | 116 => 0xA50D3132#32
  | 117 => 0x3F3504F3#32
  | 118 => 0x3F800000#32
  | 119 => 0x3F3504F3#32
  | 120 => 0x80000000#32
  | 121 => 0xBF3504F3#32
  | 122 => 0xBF800000#32
  | 123 => 0xBF3504F3#32
  | 124 => 0xA50D3132#32
  | 125 => 0x3F3504F3#32
  | 126 => 0x3F800000#32
  | 127 => 0x3F3504F3#32
  | _ => 0#32

noncomputable abbrev lit1t0_82 (i : Nat) : BitVec 32 := match i % 128 with
  | 0 => 0x80000000#32
  | 1 => 0xBF3504F3#32
  | 2 => 0xBF800000#32
  | 3 => 0xBF3504F3#32
  | 4 => 0xA50D3132#32
  | 5 => 0x3F3504F3#32
  | 6 => 0x3F800000#32
  | 7 => 0x3F3504F3#32
  | 8 => 0x80000000#32
  | 9 => 0xBF3504F3#32
  | 10 => 0xBF800000#32
  | 11 => 0xBF3504F3#32
  | 12 => 0xA50D3132#32
  | 13 => 0x3F3504F3#32
  | 14 => 0x3F800000#32
  | 15 => 0x3F3504F3#32
  | 16 => 0x80000000#32
  | 17 => 0xBF3504F3#32
  | 18 => 0xBF800000#32
  | 19 => 0xBF3504F3#32
  | 20 => 0xA50D3132#32
  | 21 => 0x3F3504F3#32
  | 22 => 0x3F800000#32
  | 23 => 0x3F3504F3#32
  | 24 => 0x80000000#32
  | 25 => 0xBF3504F3#32
  | 26 => 0xBF800000#32
  | 27 => 0xBF3504F3#32
  | 28 => 0xA50D3132#32
  | 29 => 0x3F3504F3#32
  | 30 => 0x3F800000#32
  | 31 => 0x3F3504F3#32
  | 32 => 0x80000000#32
  | 33 => 0xBF3504F3#32
  | 34 => 0xBF800000#32
  | 35 => 0xBF3504F3#32
  | 36 => 0xA50D3132#32
  | 37 => 0x3F3504F3#32
  | 38 => 0x3F800000#32
  | 39 => 0x3F3504F3#32
  | 40 => 0x80000000#32
  | 41 => 0xBF3504F3#32
  | 42 => 0xBF800000#32
  | 43 => 0xBF3504F3#32
  | 44 => 0xA50D3132#32
  | 45 => 0x3F3504F3#32
  | 46 => 0x3F800000#32
  | 47 => 0x3F3504F3#32
  | 48 => 0x80000000#32
  | 49 => 0xBF3504F3#32
  | 50 => 0xBF800000#32
  | 51 => 0xBF3504F3#32
  | 52 => 0xA50D3132#32
  | 53 => 0x3F3504F3#32
  | 54 => 0x3F800000#32
  | 55 => 0x3F3504F3#32
  | 56 => 0x80000000#32
  | 57 => 0xBF3504F3#32
  | 58 => 0xBF800000#32
  | 59 => 0xBF3504F3#32
  | 60 => 0xA50D3132#32
  | 61 => 0x3F3504F3#32
  | 62 => 0x3F800000#32
  | 63 => 0x3F3504F3#32
  | 64 => 0x80000000#32
  | 65 => 0xBF3504F3#32
  | 66 => 0xBF800000#32
  | 67 => 0xBF3504F3#32
  | 68 => 0xA50D3132#32
  | 69 => 0x3F3504F3#32
  | 70 => 0x3F800000#32
  | 71 => 0x3F3504F3#32
  | 72 => 0x80000000#32
  | 73 => 0xBF3504F3#32
  | 74 => 0xBF800000#32
  | 75 => 0xBF3504F3#32
  | 76 => 0xA50D3132#32
  | 77 => 0x3F3504F3#32
  | 78 => 0x3F800000#32
  | 79 => 0x3F3504F3#32
  | 80 => 0x80000000#32
  | 81 => 0xBF3504F3#32
  | 82 => 0xBF800000#32
  | 83 => 0xBF3504F3#32
  | 84 => 0xA50D3132#32
  | 85 => 0x3F3504F3#32
  | 86 => 0x3F800000#32
  | 87 => 0x3F3504F3#32
  | 88 => 0x80000000#32
  | 89 => 0xBF3504F3#32
  | 90 => 0xBF800000#32
  | 91 => 0xBF3504F3#32
  | 92 => 0xA50D3132#32
  | 93 => 0x3F3504F3#32
  | 94 => 0x3F800000#32
  | 95 => 0x3F3504F3#32
  | 96 => 0x80000000#32
  | 97 => 0xBF3504F3#32
  | 98 => 0xBF800000#32
  | 99 => 0xBF3504F3#32
  | 100 => 0xA50D3132#32
  | 101 => 0x3F3504F3#32
  | 102 => 0x3F800000#32
  | 103 => 0x3F3504F3#32
  | 104 => 0x80000000#32
  | 105 => 0xBF3504F3#32
  | 106 => 0xBF800000#32
  | 107 => 0xBF3504F3#32
  | 108 => 0xA50D3132#32
  | 109 => 0x3F3504F3#32
  | 110 => 0x3F800000#32
  | 111 => 0x3F3504F3#32
  | 112 => 0x80000000#32
  | 113 => 0xBF3504F3#32
  | 114 => 0xBF800000#32
  | 115 => 0xBF3504F3#32
  | 116 => 0xA50D3132#32
  | 117 => 0x3F3504F3#32
  | 118 => 0x3F800000#32
  | 119 => 0x3F3504F3#32
  | 120 => 0x80000000#32
  | 121 => 0xBF3504F3#32
  | 122 => 0xBF800000#32
  | 123 => 0xBF3504F3#32
  | 124 => 0xA50D3132#32
  | 125 => 0x3F3504F3#32
  | 126 => 0x3F800000#32
  | 127 => 0x3F3504F3#32
  | _ => 0#32

noncomputable abbrev lit1t0_83 (i : Nat) : BitVec 32 := match i % 128 with
  | 0 => 0x80000000#32
  | 1 => 0xBF3504F3#32
  | 2 => 0xBF800000#32
  | 3 => 0xBF3504F3#32
  | 4 => 0xA50D3132#32
  | 5 => 0x3F3504F3#32
  | 6 => 0x3F800000#32
  | 7 => 0x3F3504F3#32
  | 8 => 0x80000000#32
  | 9 => 0xBF3504F3#32
  | 10 => 0xBF800000#32
  | 11 => 0xBF3504F3#32
  | 12 => 0xA50D3132#32
  | 13 => 0x3F3504F3#32
  | 14 => 0x3F800000#32
  | 15 => 0x3F3504F3#32
  | 16 => 0x80000000#32
  | 17 => 0xBF3504F3#32
  | 18 => 0xBF800000#32
  | 19 => 0xBF3504F3#32
  | 20 => 0xA50D3132#32
  | 21 => 0x3F3504F3#32
  | 22 => 0x3F800000#32
  | 23 => 0x3F3504F3#32
  | 24 => 0x80000000#32
  | 25 => 0xBF3504F3#32
  | 26 => 0xBF800000#32
  | 27 => 0xBF3504F3#32
  | 28 => 0xA50D3132#32
  | 29 => 0x3F3504F3#32
  | 30 => 0x3F800000#32
  | 31 => 0x3F3504F3#32
  | 32 => 0x80000000#32
  | 33 => 0xBF38ECD8#32
  | 34 => 0xBF7FC1A0#32
  | 35 => 0xBF28CAE3#32
  | 36 => 0x3DB27EB6#32
  | 37 => 0x3F47A682#32
  | 38 => 0x3F7DCF55#32
  | 39 => 0x3F176012#32
  | 40 => 0xBE31D0D4#32
  | 41 => 0xBF54DB31#32
  | 42 => 0xBF79EE89#32
  | 43 => 0xBF04CE53#32
  | 44 => 0x3E8483EE#32
  | 45 => 0x3F60712A#32
  | 46 => 0x3F7426CB#32
  | 47 => 0x3EE273AA#32
  | 48 => 0xBEAF1D44#32
  | 49 => 0xBF6A51DA#32
  | 50 => 0xBF6C835E#32
  | 51 => 0xBEB9917B#32
  | 52 => 0x3ED8616C#32
  | 53 => 0x3F726A03#32
  | 54 => 0x3F631324#32
  | 55 => 0x3E8F45C0#32
  | 56 => 0xBF000000#32
  | 57 => 0xBF78A9E0#32
  | 58 => 0xBF57E880#32
  | 59 => 0xBE47C5C2#32
  | 60 => 0x3F12D5E8#32
  | 61 => 0x3F7D0543#32
  | 62 => 0x3F4B1934#32
  | 63 => 0x3DDEF599#32
  | 64 => 0xBF248DBB#32
  | 65 => 0xBF7F73AF#32
  | 66 => 0xBF3CBE35#32
  | 67 => 0xBCB2B521#32
  | 68 => 0x3F3504F3#32
  | 69 => 0x3F7FF067#32
  | 70 => 0x3F2CF37B#32
  | 71 => 0xBD85F213#32
  | 72 => 0xBF441B7D#32
  | 73 => 0xBF7E7A7A#32
  | 74 => 0xBF1BD7CA#32
  | 75 => 0x3E1BC63C#32
  | 76 => 0x3F51B3F3#32
  | 77 => 0x3F7B14BE#32
  | 78 => 0x3F098C78#32
  | 79 => 0xBE7363EE#32
  | 80 => 0xBF5DB3D7#32
  | 81 => 0xBF75C5D4#32
  | 82 => 0xBEEC6A50#32
  | 83 => 0x3EA493B7#32
  | 84 => 0x3F6803CA#32
  | 85 => 0x3F6E9811#32
  | 86 => 0x3EC3EF15#32
  | 87 => 0xBECE34D0#32
  | 88 => 0xBF708FB2#32
  | 89 => 0xBF659974#32
  | 90 => 0xBE99F61C#32
  | 91 => 0x3EF64429#32
  | 92 => 0x3F7746EA#32
  | 93 => 0x3F5ADB81#32
  | 94 => 0x3E5DA259#32
  | 95 => 0xBF0E39DA#32
  | 96 => 0xBF7C1C5C#32
  | 97 => 0xBF4E7327#32
  | 98 => 0xBE05A8A8#32
  | 99 => 0x3F203C85#32
  | 100 => 0x3F7F069E#32
  | 101 => 0x3F407893#32
  | 102 => 0x3D32AA3E#32
  | 103 => 0xBF310700#32
  | 104 => 0xBF800000#32
  | 105 => 0xBF310700#32
  | 106 => 0x3D32AA3E#32
  | 107 => 0x3F407893#32
  | 108 => 0x3F7F069E#32
  | 109 => 0x3F203C85#32
  | 110 => 0xBE05A8A8#32
  | 111 => 0xBF4E7327#32
  | 112 => 0xBF7C1C5C#32
  | 113 => 0xBF0E39DA#32
  | 114 => 0x3E5DA259#32
  | 115 => 0x3F5ADB81#32
  | 116 => 0x3F7746EA#32
  | 117 => 0x3EF64429#32
  | 118 => 0xBE99F61C#32
  | 119 => 0xBF659974#32
  | 120 => 0xBF708FB2#32
  | 121 => 0xBECE34D0#32
  | 122 => 0x3EC3EF15#32
  | 123 => 0x3F6E9811#32
  | 124 => 0x3F6803CA#32
  | 125 => 0x3EA493B7#32
  | 126 => 0xBEEC6A50#32
  | 127 => 0xBF75C5D4#32
  | _ => 0#32

noncomputable abbrev lit1t0_84 (i : Nat) : BitVec 32 := match i % 128 with
  | 0 => 0xBF5DB3D7#32
  | 1 => 0xBE7363EE#32
  | 2 => 0x3F098C78#32
  | 3 => 0x3F7B14BE#32
  | 4 => 0x3F51B3F3#32
  | 5 => 0x3E1BC63C#32
  | 6 => 0xBF1BD7CA#32
  | 7 => 0xBF7E7A7A#32
  | 8 => 0xBF441B7D#32
  | 9 => 0xBD85F213#32
  | 10 => 0x3F2CF37B#32
  | 11 => 0x3F7FF067#32
  | 12 => 0x3F3504F3#32
  | 13 => 0xBCB2B521#32
  | 14 => 0xBF3CBE35#32
  | 15 => 0xBF7F73AF#32
  | 16 => 0xBF248DBB#32
  | 17 => 0x3DDEF599#32
  | 18 => 0x3F4B1934#32
  | 19 => 0x3F7D0543#32
  | 20 => 0x3F12D5E8#32
  | 21 => 0xBE47C5C2#32
  | 22 => 0xBF57E880#32
  | 23 => 0xBF78A9E0#32
  | 24 => 0xBF000000#32
  | 25 => 0x3E8F45C0#32
  | 26 => 0x3F631324#32
  | 27 => 0x3F726A03#32
  | 28 => 0x3ED8616C#32
  | 29 => 0xBEB9917B#32
  | 30 => 0xBF6C835E#32
  | 31 => 0xBF6A51DA#32
  | 32 => 0xBEAF1D44#32
  | 33 => 0x3EE273AA#32
  | 34 => 0x3F7426CB#32
  | 35 => 0x3F60712A#32
  | 36 => 0x3E8483EE#32
  | 37 => 0xBF04CE53#32
  | 38 => 0xBF79EE89#32
  | 39 => 0xBF54DB31#32
  | 40 => 0xBE31D0D4#32
  | 41 => 0x3F176012#32
  | 42 => 0x3F7DCF55#32
  | 43 => 0x3F47A682#32
  | 44 => 0x3DB27EB6#32
  | 45 => 0xBF28CAE3#32
  | 46 => 0xBF7FC1A0#32
  | 47 => 0xBF38ECD8#32
  | 48 => 0xA50D3132#32
  | 49 => 0x3F38ECD8#32
  | 50 => 0x3F7FC1A0#32
  | 51 => 0x3F28CAE3#32
  | 52 => 0xBDB27EB6#32
  | 53 => 0xBF47A682#32
  | 54 => 0xBF7DCF55#32
  | 55 => 0xBF176012#32
  | 56 => 0x3E31D0D4#32
  | 57 => 0x3F54DB31#32
  | 58 => 0x3F79EE89#32
  | 59 => 0x3F04CE53#32
  | 60 => 0xBE8483EE#32
  | 61 => 0xBF60712A#32
  | 62 => 0xBF7426CB#32
  | 63 => 0xBEE273AA#32
  | 64 => 0x3EAF1D44#32
  | 65 => 0x3F6A51DA#32
  | 66 => 0x3F6C835E#32
  | 67 => 0x3EB9917B#32
  | 68 => 0xBED8616C#32
  | 69 => 0xBF726A03#32
  | 70 => 0xBF631324#32
  | 71 => 0xBE8F45C0#32
  | 72 => 0x3F000000#32
  | 73 => 0x3F78A9E0#32
  | 74 => 0x3F57E880#32
  | 75 => 0x3E47C5C2#32
  | 76 => 0xBF12D5E8#32
  | 77 => 0xBF7D0543#32
  | 78 => 0xBF4B1934#32
  | 79 => 0xBDDEF599#32
  | 80 => 0x3F248DBB#32
  | 81 => 0x3F7F73AF#32
  | 82 => 0x3F3CBE35#32
  | 83 => 0x3CB2B521#32
  | 84 => 0xBF3504F3#32
  | 85 => 0xBF7FF067#32
  | 86 => 0xBF2CF37B#32
  | 87 => 0x3D85F213#32
  | 88 => 0x3F441B7D#32
  | 89 => 0x3F7E7A7A#32
  | 90 => 0x3F1BD7CA#32
  | 91 => 0xBE1BC63C#32
  | 92 => 0xBF51B3F3#32
  | 93 => 0xBF7B14BE#32
  | 94 => 0xBF098C78#32
  | 95 => 0x3E7363EE#32
  | 96 => 0x3F5DB3D7#32
  | 97 => 0x3F75C5D4#32
  | 98 => 0x3EEC6A50#32
  | 99 => 0xBEA493B7#32
  | 100 => 0xBF6803CA#32
  | 101 => 0xBF6E9811#32
  | 102 => 0xBEC3EF15#32
  | 103 => 0x3ECE34D0#32
  | 104 => 0x3F708FB2#32
  | 105 => 0x3F659974#32
  | 106 => 0x3E99F61C#32
  | 107 => 0xBEF64429#32
  | 108 => 0xBF7746EA#32
  | 109 => 0xBF5ADB81#32
  | 110 => 0xBE5DA259#32
  | 111 => 0x3F0E39DA#32
  | 112 => 0x3F7C1C5C#32
  | 113 => 0x3F4E7327#32
  | 114 => 0x3E05A8A8#32
  | 115 => 0xBF203C85#32
  | 116 => 0xBF7F069E#32
  | 117 => 0xBF407893#32
  | 118 => 0xBD32AA3E#32
  | 119 => 0x3F310700#32
  | 120 => 0x3F800000#32
  | 121 => 0x3F310700#32
  | 122 => 0xBD32AA3E#32
  | 123 => 0xBF407893#32
  | 124 => 0xBF7F069E#32
  | 125 => 0xBF203C85#32
  | 126 => 0x3E05A8A8#32
  | 127 => 0x3F4E7327#32
  | _ => 0#32

noncomputable abbrev lit1t0_85 (i : Nat) : BitVec 32 := match i % 128 with
  | 0 => 0x3F7C1C5C#32
  | 1 => 0x3F0E39DA#32
  | 2 => 0xBE5DA259#32
  | 3 => 0xBF5ADB81#32
  | 4 => 0xBF7746EA#32
  | 5 => 0xBEF64429#32
  | 6 => 0x3E99F61C#32
  | 7 => 0x3F659974#32
  | 8 => 0x3F708FB2#32
  | 9 => 0x3ECE34D0#32
  | 10 => 0xBEC3EF15#32
  | 11 => 0xBF6E9811#32
  | 12 => 0xBF6803CA#32
  | 13 => 0xBEA493B7#32
  | 14 => 0x3EEC6A50#32
  | 15 => 0x3F75C5D4#32
  | 16 => 0x3F5DB3D7#32
  | 17 => 0x3E7363EE#32
  | 18 => 0xBF098C78#32
  | 19 => 0xBF7B14BE#32
  | 20 => 0xBF51B3F3#32
  | 21 => 0xBE1BC63C#32
  | 22 => 0x3F1BD7CA#32
  | 23 => 0x3F7E7A7A#32
  | 24 => 0x3F441B7D#32
  | 25 => 0x3D85F213#32
  | 26 => 0xBF2CF37B#32
  | 27 => 0xBF7FF067#32
  | 28 => 0xBF3504F3#32
  | 29 => 0x3CB2B521#32
  | 30 => 0x3F3CBE35#32
  | 31 => 0x3F7F73AF#32
  | 32 => 0x3F248DBB#32
  | 33 => 0xBDDEF599#32
  | 34 => 0xBF4B1934#32
  | 35 => 0xBF7D0543#32
  | 36 => 0xBF12D5E8#32
  | 37 => 0x3E47C5C2#32
  | 38 => 0x3F57E880#32
  | 39 => 0x3F78A9E0#32
  | 40 => 0x3F000000#32
  | 41 => 0xBE8F45C0#32
  | 42 => 0xBF631324#32
  | 43 => 0xBF726A03#32
  | 44 => 0xBED8616C#32
  | 45 => 0x3EB9917B#32
  | 46 => 0x3F6C835E#32
  | 47 => 0x3F6A51DA#32
  | 48 => 0x3EAF1D44#32
  | 49 => 0xBEE273AA#32
  | 50 => 0xBF7426CB#32
  | 51 => 0xBF60712A#32
  | 52 => 0xBE8483EE#32
  | 53 => 0x3F04CE53#32
  | 54 => 0x3F79EE89#32
  | 55 => 0x3F54DB31#32
  | 56 => 0x3E31D0D4#32
  | 57 => 0xBF176012#32
  | 58 => 0xBF7DCF55#32
  | 59 => 0xBF47A682#32
  | 60 => 0xBDB27EB6#32
  | 61 => 0x3F28CAE3#32
  | 62 => 0x3F7FC1A0#32
  | 63 => 0x3F38ECD8#32
  | 64 => 0x80000000#32
  | 65 => 0xBF3CBE35#32
  | 66 => 0xBF7F069E#32
  | 67 => 0xBF1BD7CA#32
  | 68 => 0x3E31D0D4#32
  | 69 => 0x3F57E880#32
  | 70 => 0x3F7746EA#32
  | 71 => 0x3EEC6A50#32
  | 72 => 0xBEAF1D44#32
  | 73 => 0xBF6C835E#32
  | 74 => 0xBF6803CA#32
  | 75 => 0xBE99F61C#32
  | 76 => 0x3F000000#32
  | 77 => 0x3F79EE89#32
  | 78 => 0x3F51B3F3#32
  | 79 => 0x3E05A8A8#32
  | 80 => 0xBF248DBB#32
  | 81 => 0xBF7FC1A0#32
  | 82 => 0xBF3504F3#32
  | 83 => 0x3D32AA3E#32
  | 84 => 0x3F441B7D#32
  | 85 => 0x3F7DCF55#32
  | 86 => 0x3F12D5E8#32
  | 87 => 0xBE5DA259#32
  | 88 => 0xBF5DB3D7#32
  | 89 => 0xBF7426CB#32
  | 90 => 0xBED8616C#32
  | 91 => 0x3EC3EF15#32
  | 92 => 0x3F708FB2#32
  | 93 => 0x3F631324#32
  | 94 => 0x3E8483EE#32
  | 95 => 0xBF098C78#32
  | 96 => 0xBF7C1C5C#32
  | 97 => 0xBF4B1934#32
  | 98 => 0xBDB27EB6#32
  | 99 => 0x3F2CF37B#32
  | 100 => 0x3F800000#32
  | 101 => 0x3F2CF37B#32
  | 102 => 0xBDB27EB6#32
  | 103 => 0xBF4B1934#32
  | 104 => 0xBF7C1C5C#32
  | 105 => 0xBF098C78#32
  | 106 => 0x3E8483EE#32
  | 107 => 0x3F631324#32
  | 108 => 0x3F708FB2#32
  | 109 => 0x3EC3EF15#32
  | 110 => 0xBED8616C#32
  | 111 => 0xBF7426CB#32
  | 112 => 0xBF5DB3D7#32
  | 113 => 0xBE5DA259#32
  | 114 => 0x3F12D5E8#32
  | 115 => 0x3F7DCF55#32
  | 116 => 0x3F441B7D#32
  | 117 => 0x3D32AA3E#32
  | 118 => 0xBF3504F3#32
  | 119 => 0xBF7FC1A0#32
  | 120 => 0xBF248DBB#32
  | 121 => 0x3E05A8A8#32
  | 122 => 0x3F51B3F3#32
  | 123 => 0x3F79EE89#32
  | 124 => 0x3F000000#32
  | 125 => 0xBE99F61C#32
  | 126 => 0xBF6803CA#32
  | 127 => 0xBF6C835E#32
  | _ => 0#32

noncomputable abbrev lit1t0_86 (i : Nat) : BitVec 32 := match i % 128 with
  | 0 => 0xBEAF1D44#32
  | 1 => 0x3EEC6A50#32
  | 2 => 0x3F7746EA#32
  | 3 => 0x3F57E880#32
  | 4 => 0x3E31D0D4#32
  | 5 => 0xBF1BD7CA#32
  | 6 => 0xBF7F069E#32
  | 7 => 0xBF3CBE35#32
  | 8 => 0xA50D3132#32
  | 9 => 0x3F3CBE35#32
  | 10 => 0x3F7F069E#32
  | 11 => 0x3F1BD7CA#32
  | 12 => 0xBE31D0D4#32
  | 13 => 0xBF57E880#32
  | 14 => 0xBF7746EA#32
  | 15 => 0xBEEC6A50#32
  | 16 => 0x3EAF1D44#32
  | 17 => 0x3F6C835E#32
  | 18 => 0x3F6803CA#32
  | 19 => 0x3E99F61C#32
  | 20 => 0xBF000000#32
  | 21 => 0xBF79EE89#32
  | 22 => 0xBF51B3F3#32
  | 23 => 0xBE05A8A8#32
  | 24 => 0x3F248DBB#32
  | 25 => 0x3F7FC1A0#32
  | 26 => 0x3F3504F3#32
  | 27 => 0xBD32AA3E#32
  | 28 => 0xBF441B7D#32
  | 29 => 0xBF7DCF55#32
  | 30 => 0xBF12D5E8#32
  | 31 => 0x3E5DA259#32
  | 32 => 0x3F5DB3D7#32
  | 33 => 0x3F7426CB#32
  | 34 => 0x3ED8616C#32
  | 35 => 0xBEC3EF15#32
  | 36 => 0xBF708FB2#32
  | 37 => 0xBF631324#32
  | 38 => 0xBE8483EE#32
  | 39 => 0x3F098C78#32
  | 40 => 0x3F7C1C5C#32
  | 41 => 0x3F4B1934#32
  | 42 => 0x3DB27EB6#32
  | 43 => 0xBF2CF37B#32
  | 44 => 0xBF800000#32
  | 45 => 0xBF2CF37B#32
  | 46 => 0x3DB27EB6#32
  | 47 => 0x3F4B1934#32
  | 48 => 0x3F7C1C5C#32
  | 49 => 0x3F098C78#32
  | 50 => 0xBE8483EE#32
  | 51 => 0xBF631324#32
  | 52 => 0xBF708FB2#32
  | 53 => 0xBEC3EF15#32
  | 54 => 0x3ED8616C#32
  | 55 => 0x3F7426CB#32
  | 56 => 0x3F5DB3D7#32
  | 57 => 0x3E5DA259#32
  | 58 => 0xBF12D5E8#32
  | 59 => 0xBF7DCF55#32
  | 60 => 0xBF441B7D#32
  | 61 => 0xBD32AA3E#32
  | 62 => 0x3F3504F3#32
  | 63 => 0x3F7FC1A0#32
  | 64 => 0x3F248DBB#32
  | 65 => 0xBE05A8A8#32
  | 66 => 0xBF51B3F3#32
  | 67 => 0xBF79EE89#32
  | 68 => 0xBF000000#32
  | 69 => 0x3E99F61C#32
  | 70 => 0x3F6803CA#32
  | 71 => 0x3F6C835E#32
  | 72 => 0x3EAF1D44#32
  | 73 => 0xBEEC6A50#32
  | 74 => 0xBF7746EA#32
  | 75 => 0xBF57E880#32
  | 76 => 0xBE31D0D4#32
  | 77 => 0x3F1BD7CA#32
  | 78 => 0x3F7F069E#32
  | 79 => 0x3F3CBE35#32
  | 80 => 0x80000000#32
  | 81 => 0xBF3CBE35#32
  | 82 => 0xBF7F069E#32
  | 83 => 0xBF1BD7CA#32
  | 84 => 0x3E31D0D4#32
  | 85 => 0x3F57E880#32
  | 86 => 0x3F7746EA#32
  | 87 => 0x3EEC6A50#32
  | 88 => 0xBEAF1D44#32
  | 89 => 0xBF6C835E#32
  | 90 => 0xBF6803CA#32
  | 91 => 0xBE99F61C#32
  | 92 => 0x3F000000#32
  | 93 => 0x3F79EE89#32
  | 94 => 0x3F51B3F3#32
  | 95 => 0x3E05A8A8#32
  | 96 => 0xBF248DBB#32
  | 97 => 0xBF7FC1A0#32
  | 98 => 0xBF3504F3#32
  | 99 => 0x3D32AA3E#32
  | 100 => 0x3F441B7D#32
  | 101 => 0x3F7DCF55#32
  | 102 => 0x3F12D5E8#32
  | 103 => 0xBE5DA259#32
  | 104 => 0xBF5DB3D7#32
  | 105 => 0xBF7426CB#32
  | 106 => 0xBED8616C#32
  | 107 => 0x3EC3EF15#32
  | 108 => 0x3F708FB2#32
  | 109 => 0x3F631324#32
  | 110 => 0x3E8483EE#32
  | 111 => 0xBF098C78#32
  | 112 => 0xBF7C1C5C#32
  | 113 => 0xBF4B1934#32
  | 114 => 0xBDB27EB6#32
  | 115 => 0x3F2CF37B#32
  | 116 => 0x3F800000#32
  | 117 => 0x3F2CF37B#32
  | 118 => 0xBDB27EB6#32
  | 119 => 0xBF4B1934#32
  | 120 => 0xBF7C1C5C#32
  | 121 => 0xBF098C78#32
  | 122 => 0x3E8483EE#32
  | 123 => 0x3F631324#32
  | 124 => 0x3F708FB2#32
  | 125 => 0x3EC3EF15#32
  | 126 => 0xBED8616C#32
  | 127 => 0xBF7426CB#32
  | _ => 0#32

noncomputable abbrev lit1t0_87 (i : Nat) : BitVec 32 := match i % 128 with
  | 0 => 0xBF5DB3D7#32
  | 1 => 0xBE5DA259#32
  | 2 => 0x3F12D5E8#32
  | 3 => 0x3F7DCF55#32
  | 4 => 0x3F441B7D#32
  | 5 => 0x3D32AA3E#32
  | 6 => 0xBF3504F3#32
  | 7 => 0xBF7FC1A0#32
  | 8 => 0xBF248DBB#32
  | 9 => 0x3E05A8A8#32
  | 10 => 0x3F51B3F3#32
  | 11 => 0x3F79EE89#32
  | 12 => 0x3F000000#32
  | 13 => 0xBE99F61C#32
  | 14 => 0xBF6803CA#32
  | 15 => 0xBF6C835E#32
  | 16 => 0xBEAF1D44#32
  | 17 => 0x3EEC6A50#32
  | 18 => 0x3F7746EA#32
  | 19 => 0x3F57E880#32
  | 20 => 0x3E31D0D4#32
  | 21 => 0xBF1BD7CA#32
  | 22 => 0xBF7F069E#32
  | 23 => 0xBF3CBE35#32
  | 24 => 0xA50D3132#32
  | 25 => 0x3F3CBE35#32
  | 26 => 0x3F7F069E#32
  | 27 => 0x3F1BD7CA#32
  | 28 => 0xBE31D0D4#32
  | 29 => 0xBF57E880#32
  | 30 => 0xBF7746EA#32
  | 31 => 0xBEEC6A50#32
  | 32 => 0x3EAF1D44#32
  | 33 => 0x3F6C835E#32
  | 34 => 0x3F6803CA#32
  | 35 => 0x3E99F61C#32
  | 36 => 0xBF000000#32
  | 37 => 0xBF79EE89#32
  | 38 => 0xBF51B3F3#32
  | 39 => 0xBE05A8A8#32
  | 40 => 0x3F248DBB#32
  | 41 => 0x3F7FC1A0#32
  | 42 => 0x3F3504F3#32
  | 43 => 0xBD32AA3E#32
  | 44 => 0xBF441B7D#32
  | 45 => 0xBF7DCF55#32
  | 46 => 0xBF12D5E8#32
  | 47 => 0x3E5DA259#32
  | 48 => 0x3F5DB3D7#32
  | 49 => 0x3F7426CB#32
  | 50 => 0x3ED8616C#32
  | 51 => 0xBEC3EF15#32
  | 52 => 0xBF708FB2#32
  | 53 => 0xBF631324#32
  | 54 => 0xBE8483EE#32
  | 55 => 0x3F098C78#32
  | 56 => 0x3F7C1C5C#32
  | 57 => 0x3F4B1934#32
  | 58 => 0x3DB27EB6#32
  | 59 => 0xBF2CF37B#32
  | 60 => 0xBF800000#32
  | 61 => 0xBF2CF37B#32
  | 62 => 0x3DB27EB6#32
  | 63 => 0x3F4B1934#32
  | 64 => 0x3F7C1C5C#32
  | 65 => 0x3F098C78#32
  | 66 => 0xBE8483EE#32
  | 67 => 0xBF631324#32
  | 68 => 0xBF708FB2#32
  | 69 => 0xBEC3EF15#32
  | 70 => 0x3ED8616C#32
  | 71 => 0x3F7426CB#32
  | 72 => 0x3F5DB3D7#32
  | 73 => 0x3E5DA259#32
  | 74 => 0xBF12D5E8#32
  | 75 => 0xBF7DCF55#32
  | 76 => 0xBF441B7D#32
  | 77 => 0xBD32AA3E#32
  | 78 => 0x3F3504F3#32
  | 79 => 0x3F7FC1A0#32
  | 80 => 0x3F248DBB#32
  | 81 => 0xBE05A8A8#32
  | 82 => 0xBF51B3F3#32
  | 83 => 0xBF79EE89#32
  | 84 => 0xBF000000#32
  | 85 => 0x3E99F61C#32
  | 86 => 0x3F6803CA#32
  | 87 => 0x3F6C835E#32
  | 88 => 0x3EAF1D44#32
  | 89 => 0xBEEC6A50#32
  | 90 => 0xBF7746EA#32
  | 91 => 0xBF57E880#32
  | 92 => 0xBE31D0D4#32
  | 93 => 0x3F1BD7CA#32
  | 94 => 0x3F7F069E#32
  | 95 => 0x3F3CBE35#32
  | 96 => 0x80000000#32
  | 97 => 0xBF407893#32
  | 98 => 0xBF7DCF55#32
  | 99 => 0xBF0E39DA#32
  | 100 => 0x3E8483EE#32
  | 101 => 0x3F659974#32
  | 102 => 0x3F6C835E#32
  | 103 => 0x3EA493B7#32
  | 104 => 0xBF000000#32
  | 105 => 0xBF7B14BE#32
  | 106 => 0xBF4B1934#32
  | 107 => 0xBD85F213#32
  | 108 => 0x3F3504F3#32
  | 109 => 0x3F7F73AF#32
  | 110 => 0x3F1BD7CA#32
  | 111 => 0xBE47C5C2#32
  | 112 => 0xBF5DB3D7#32
  | 113 => 0xBF726A03#32
  | 114 => 0xBEC3EF15#32
  | 115 => 0x3EE273AA#32
  | 116 => 0x3F7746EA#32
  | 117 => 0x3F54DB31#32
  | 118 => 0x3E05A8A8#32
  | 119 => 0xBF28CAE3#32
  | 120 => 0xBF800000#32
  | 121 => 0xBF28CAE3#32
  | 122 => 0x3E05A8A8#32
  | 123 => 0x3F54DB31#32
  | 124 => 0x3F7746EA#32
  | 125 => 0x3EE273AA#32
  | 126 => 0xBEC3EF15#32
  | 127 => 0xBF726A03#32
  | _ => 0#32

noncomputable abbrev lit1t0_88 (i : Nat) : BitVec 32 := match i % 128 with
  | 0 => 0xBF5DB3D7#32
  | 1 => 0xBE47C5C2#32
  | 2 => 0x3F1BD7CA#32
  | 3 => 0x3F7F73AF#32
  | 4 => 0x3F3504F3#32
  | 5 => 0xBD85F213#32
  | 6 => 0xBF4B1934#32
  | 7 => 0xBF7B14BE#32
  | 8 => 0xBF000000#32
  | 9 => 0x3EA493B7#32
  | 10 => 0x3F6C835E#32
  | 11 => 0x3F659974#32
  | 12 => 0x3E8483EE#32
  | 13 => 0xBF0E39DA#32
  | 14 => 0xBF7DCF55#32
  | 15 => 0xBF407893#32
  | 16 => 0xA50D3132#32
  | 17 => 0x3F407893#32
  | 18 => 0x3F7DCF55#32
  | 19 => 0x3F0E39DA#32
  | 20 => 0xBE8483EE#32
  | 21 => 0xBF659974#32
  | 22 => 0xBF6C835E#32
  | 23 => 0xBEA493B7#32
  | 24 => 0x3F000000#32
  | 25 => 0x3F7B14BE#32
  | 26 => 0x3F4B1934#32
  | 27 => 0x3D85F213#32
  | 28 => 0xBF3504F3#32
  | 29 => 0xBF7F73AF#32
  | 30 => 0xBF1BD7CA#32
  | 31 => 0x3E47C5C2#32
  | 32 => 0x3F5DB3D7#32
  | 33 => 0x3F726A03#32
  | 34 => 0x3EC3EF15#32
  | 35 => 0xBEE273AA#32
  | 36 => 0xBF7746EA#32
  | 37 => 0xBF54DB31#32
  | 38 => 0xBE05A8A8#32
  | 39 => 0x3F28CAE3#32
  | 40 => 0x3F800000#32
  | 41 => 0x3F28CAE3#32
  | 42 => 0xBE05A8A8#32
  | 43 => 0xBF54DB31#32
  | 44 => 0xBF7746EA#32
  | 45 => 0xBEE273AA#32
  | 46 => 0x3EC3EF15#32
  | 47 => 0x3F726A03#32
  | 48 => 0x3F5DB3D7#32
  | 49 => 0x3E47C5C2#32
  | 50 => 0xBF1BD7CA#32
  | 51 => 0xBF7F73AF#32
  | 52 => 0xBF3504F3#32
  | 53 => 0x3D85F213#32
  | 54 => 0x3F4B1934#32
  | 55 => 0x3F7B14BE#32
  | 56 => 0x3F000000#32
  | 57 => 0xBEA493B7#32
  | 58 => 0xBF6C835E#32
  | 59 => 0xBF659974#32
  | 60 => 0xBE8483EE#32
  | 61 => 0x3F0E39DA#32
  | 62 => 0x3F7DCF55#32
  | 63 => 0x3F407893#32
  | 64 => 0x80000000#32
  | 65 => 0xBF407893#32
  | 66 => 0xBF7DCF55#32
  | 67 => 0xBF0E39DA#32
  | 68 => 0x3E8483EE#32
  | 69 => 0x3F659974#32
  | 70 => 0x3F6C835E#32
  | 71 => 0x3EA493B7#32
  | 72 => 0xBF000000#32
  | 73 => 0xBF7B14BE#32
  | 74 => 0xBF4B1934#32
  | 75 => 0xBD85F213#32
  | 76 => 0x3F3504F3#32
  | 77 => 0x3F7F73AF#32
  | 78 => 0x3F1BD7CA#32
  | 79 => 0xBE47C5C2#32
  | 80 => 0xBF5DB3D7#32
  | 81 => 0xBF726A03#32
  | 82 => 0xBEC3EF15#32
  | 83 => 0x3EE273AA#32
  | 84 => 0x3F7746EA#32
  | 85 => 0x3F54DB31#32
  | 86 => 0x3E05A8A8#32
  | 87 => 0xBF28CAE3#32
  | 88 => 0xBF800000#32
  | 89 => 0xBF28CAE3#32
  | 90 => 0x3E05A8A8#32
  | 91 => 0x3F54DB31#32
  | 92 => 0x3F7746EA#32
  | 93 => 0x3EE273AA#32
  | 94 => 0xBEC3EF15#32
  | 95 => 0xBF726A03#32
  | 96 => 0xBF5DB3D7#32
  | 97 => 0xBE47C5C2#32
  | 98 => 0x3F1BD7CA#32
  | 99 => 0x3F7F73AF#32
  | 100 => 0x3F3504F3#32
  | 101 => 0xBD85F213#32
  | 102 => 0xBF4B1934#32
  | 103 => 0xBF7B14BE#32
  | 104 => 0xBF000000#32
  | 105 => 0x3EA493B7#32
  | 106 => 0x3F6C835E#32
  | 107 => 0x3F659974#32
  | 108 => 0x3E8483EE#32
  | 109 => 0xBF0E39DA#32
  | 110 => 0xBF7DCF55#32
  | 111 => 0xBF407893#32
  | 112 => 0xA50D3132#32
  | 113 => 0x3F407893#32
  | 114 => 0x3F7DCF55#32
  | 115 => 0x3F0E39DA#32
  | 116 => 0xBE8483EE#32
  | 117 => 0xBF659974#32
  | 118 => 0xBF6C835E#32
  | 119 => 0xBEA493B7#32
  | 120 => 0x3F000000#32
  | 121 => 0x3F7B14BE#32
  | 122 => 0x3F4B1934#32
  | 123 => 0x3D85F213#32
  | 124 => 0xBF3504F3#32
  | 125 => 0xBF7F73AF#32
  | 126 => 0xBF1BD7CA#32
  | 127 => 0x3E47C5C2#32
  | _ => 0#32

noncomputable abbrev lit1t0_89 (i : Nat) : BitVec 32 := match i % 128 with
  | 0 => 0x3F5DB3D7#32
  | 1 => 0x3F726A03#32
  | 2 => 0x3EC3EF15#32
  | 3 => 0xBEE273AA#32
  | 4 => 0xBF7746EA#32
  | 5 => 0xBF54DB31#32
  | 6 => 0xBE05A8A8#32
  | 7 => 0x3F28CAE3#32
  | 8 => 0x3F800000#32
  | 9 => 0x3F28CAE3#32
  | 10 => 0xBE05A8A8#32
  | 11 => 0xBF54DB31#32
  | 12 => 0xBF7746EA#32
  | 13 => 0xBEE273AA#32
  | 14 => 0x3EC3EF15#32
  | 15 => 0x3F726A03#32
  | 16 => 0x3F5DB3D7#32
  | 17 => 0x3E47C5C2#32
  | 18 => 0xBF1BD7CA#32
  | 19 => 0xBF7F73AF#32
  | 20 => 0xBF3504F3#32
  | 21 => 0x3D85F213#32
  | 22 => 0x3F4B1934#32
  | 23 => 0x3F7B14BE#32
  | 24 => 0x3F000000#32
  | 25 => 0xBEA493B7#32
  | 26 => 0xBF6C835E#32
  | 27 => 0xBF659974#32
  | 28 => 0xBE8483EE#32
  | 29 => 0x3F0E39DA#32
  | 30 => 0x3F7DCF55#32
  | 31 => 0x3F407893#32
  | 32 => 0x80000000#32
  | 33 => 0xBF407893#32
  | 34 => 0xBF7DCF55#32
  | 35 => 0xBF0E39DA#32
  | 36 => 0x3E8483EE#32
  | 37 => 0x3F659974#32
  | 38 => 0x3F6C835E#32
  | 39 => 0x3EA493B7#32
  | 40 => 0xBF000000#32
  | 41 => 0xBF7B14BE#32
  | 42 => 0xBF4B1934#32
  | 43 => 0xBD85F213#32
  | 44 => 0x3F3504F3#32
  | 45 => 0x3F7F73AF#32
  | 46 => 0x3F1BD7CA#32
  | 47 => 0xBE47C5C2#32
  | 48 => 0xBF5DB3D7#32
  | 49 => 0xBF726A03#32
  | 50 => 0xBEC3EF15#32
  | 51 => 0x3EE273AA#32
  | 52 => 0x3F7746EA#32
  | 53 => 0x3F54DB31#32
  | 54 => 0x3E05A8A8#32
  | 55 => 0xBF28CAE3#32
  | 56 => 0xBF800000#32
  | 57 => 0xBF28CAE3#32
  | 58 => 0x3E05A8A8#32
  | 59 => 0x3F54DB31#32
  | 60 => 0x3F7746EA#32
  | 61 => 0x3EE273AA#32
  | 62 => 0xBEC3EF15#32
  | 63 => 0xBF726A03#32
  | 64 => 0xBF5DB3D7#32
  | 65 => 0xBE47C5C2#32
  | 66 => 0x3F1BD7CA#32
  | 67 => 0x3F7F73AF#32
  | 68 => 0x3F3504F3#32
  | 69 => 0xBD85F213#32
  | 70 => 0xBF4B1934#32
  | 71 => 0xBF7B14BE#32
  | 72 => 0xBF000000#32
  | 73 => 0x3EA493B7#32
  | 74 => 0x3F6C835E#32
  | 75 => 0x3F659974#32
  | 76 => 0x3E8483EE#32
  | 77 => 0xBF0E39DA#32
  | 78 => 0xBF7DCF55#32
  | 79 => 0xBF407893#32
  | 80 => 0xA50D3132#32
  | 81 => 0x3F407893#32
  | 82 => 0x3F7DCF55#32
  | 83 => 0x3F0E39DA#32
  | 84 => 0xBE8483EE#32
  | 85 => 0xBF659974#32
  | 86 => 0xBF6C835E#32
  | 87 => 0xBEA493B7#32
  | 88 => 0x3F000000#32
  | 89 => 0x3F7B14BE#32
  | 90 => 0x3F4B1934#32
  | 91 => 0x3D85F213#32
  | 92 => 0xBF3504F3#32
  | 93 => 0xBF7F73AF#32
  | 94 => 0xBF1BD7CA#32
  | 95 => 0x3E47C5C2#32
  | 96 => 0x3F5DB3D7#32
  | 97 => 0x3F726A03#32
  | 98 => 0x3EC3EF15#32
  | 99 => 0xBEE273AA#32
  | 100 => 0xBF7746EA#32
  | 101 => 0xBF54DB31#32
  | 102 => 0xBE05A8A8#32
  | 103 => 0x3F28CAE3#32
  | 104 => 0x3F800000#32
  | 105 => 0x3F28CAE3#32
  | 106 => 0xBE05A8A8#32
  | 107 => 0xBF54DB31#32
  | 108 => 0xBF7746EA#32
  | 109 => 0xBEE273AA#32
  | 110 => 0x3EC3EF15#32
  | 111 => 0x3F726A03#32
  | 112 => 0x3F5DB3D7#32
  | 113 => 0x3E47C5C2#32
  | 114 => 0xBF1BD7CA#32
  | 115 => 0xBF7F73AF#32
  | 116 => 0xBF3504F3#32
  | 117 => 0x3D85F213#32
  | 118 => 0x3F4B1934#32
  | 119 => 0x3F7B14BE#32
  | 120 => 0x3F000000#32
  | 121 => 0xBEA493B7#32
  | 122 => 0xBF6C835E#32
  | 123 => 0xBF659974#32
  | 124 => 0xBE8483EE#32
  | 125 => 0x3F0E39DA#32
  | 126 => 0x3F7DCF55#32
  | 127 => 0x3F407893#32
  | _ => 0#32

noncomputable abbrev lit1t0_90 (i : Nat) : BitVec 32 := match i % 128 with
  | 0 => 0x80000000#32
  | 1 => 0xBF441B7D#32
  | 2 => 0xBF7C1C5C#32
  | 3 => 0xBF000000#32
  | 4 => 0x3EAF1D44#32
  | 5 => 0x3F708FB2#32
  | 6 => 0x3F5DB3D7#32
  | 7 => 0x3E31D0D4#32
  | 8 => 0xBF248DBB#32
  | 9 => 0xBF800000#32
  | 10 => 0xBF248DBB#32
  | 11 => 0x3E31D0D4#32
  | 12 => 0x3F5DB3D7#32
  | 13 => 0x3F708FB2#32
  | 14 => 0x3EAF1D44#32
  | 15 => 0xBF000000#32
  | 16 => 0xBF7C1C5C#32
  | 17 => 0xBF441B7D#32
  | 18 => 0xA50D3132#32
  | 19 => 0x3F441B7D#32
  | 20 => 0x3F7C1C5C#32
  | 21 => 0x3F000000#32
  | 22 => 0xBEAF1D44#32
  | 23 => 0xBF708FB2#32
  | 24 => 0xBF5DB3D7#32
  | 25 => 0xBE31D0D4#32
  | 26 => 0x3F248DBB#32
  | 27 => 0x3F800000#32
  | 28 => 0x3F248DBB#32
  | 29 => 0xBE31D0D4#32
  | 30 => 0xBF5DB3D7#32
  | 31 => 0xBF708FB2#32
  | 32 => 0xBEAF1D44#32
  | 33 => 0x3F000000#32
  | 34 => 0x3F7C1C5C#32
  | 35 => 0x3F441B7D#32
  | 36 => 0x80000000#32
  | 37 => 0xBF441B7D#32
  | 38 => 0xBF7C1C5C#32
  | 39 => 0xBF000000#32
  | 40 => 0x3EAF1D44#32
  | 41 => 0x3F708FB2#32
  | 42 => 0x3F5DB3D7#32
  | 43 => 0x3E31D0D4#32
  | 44 => 0xBF248DBB#32
  | 45 => 0xBF800000#32
  | 46 => 0xBF248DBB#32
  | 47 => 0x3E31D0D4#32
  | 48 => 0x3F5DB3D7#32
  | 49 => 0x3F708FB2#32
  | 50 => 0x3EAF1D44#32
  | 51 => 0xBF000000#32
  | 52 => 0xBF7C1C5C#32
  | 53 => 0xBF441B7D#32
  | 54 => 0xA50D3132#32
  | 55 => 0x3F441B7D#32
  | 56 => 0x3F7C1C5C#32
  | 57 => 0x3F000000#32
  | 58 => 0xBEAF1D44#32
  | 59 => 0xBF708FB2#32
  | 60 => 0xBF5DB3D7#32
  | 61 => 0xBE31D0D4#32
  | 62 => 0x3F248DBB#32
  | 63 => 0x3F800000#32
  | 64 => 0x3F248DBB#32
  | 65 => 0xBE31D0D4#32
  | 66 => 0xBF5DB3D7#32
  | 67 => 0xBF708FB2#32
  | 68 => 0xBEAF1D44#32
  | 69 => 0x3F000000#32
  | 70 => 0x3F7C1C5C#32
  | 71 => 0x3F441B7D#32
  | 72 => 0x80000000#32
  | 73 => 0xBF441B7D#32
  | 74 => 0xBF7C1C5C#32
  | 75 => 0xBF000000#32
  | 76 => 0x3EAF1D44#32
  | 77 => 0x3F708FB2#32
  | 78 => 0x3F5DB3D7#32
  | 79 => 0x3E31D0D4#32
  | 80 => 0xBF248DBB#32
  | 81 => 0xBF800000#32
  | 82 => 0xBF248DBB#32
  | 83 => 0x3E31D0D4#32
  | 84 => 0x3F5DB3D7#32
  | 85 => 0x3F708FB2#32
  | 86 => 0x3EAF1D44#32
  | 87 => 0xBF000000#32
  | 88 => 0xBF7C1C5C#32
  | 89 => 0xBF441B7D#32
  | 90 => 0xA50D3132#32
  | 91 => 0x3F441B7D#32
  | 92 => 0x3F7C1C5C#32
  | 93 => 0x3F000000#32
  | 94 => 0xBEAF1D44#32
  | 95 => 0xBF708FB2#32
  | 96 => 0xBF5DB3D7#32
  | 97 => 0xBE31D0D4#32
  | 98 => 0x3F248DBB#32
  | 99 => 0x3F800000#32
  | 100 => 0x3F248DBB#32
  | 101 => 0xBE31D0D4#32
  | 102 => 0xBF5DB3D7#32
  | 103 => 0xBF708FB2#32
  | 104 => 0xBEAF1D44#32
  | 105 => 0x3F000000#32
  | 106 => 0x3F7C1C5C#32
  | 107 => 0x3F441B7D#32
  | 108 => 0x80000000#32
  | 109 => 0xBF441B7D#32
  | 110 => 0xBF7C1C5C#32
  | 111 => 0xBF000000#32
  | 112 => 0x3EAF1D44#32
  | 113 => 0x3F708FB2#32
  | 114 => 0x3F5DB3D7#32
  | 115 => 0x3E31D0D4#32
  | 116 => 0xBF248DBB#32
  | 117 => 0xBF800000#32
  | 118 => 0xBF248DBB#32
  | 119 => 0x3E31D0D4#32
  | 120 => 0x3F5DB3D7#32
  | 121 => 0x3F708FB2#32
  | 122 => 0x3EAF1D44#32
  | 123 => 0xBF000000#32
  | 124 => 0xBF7C1C5C#32
  | 125 => 0xBF441B7D#32
  | 126 => 0xA50D3132#32
  | 127 => 0x3F441B7D#32
  | _ => 0#32

noncomputable abbrev lit1t0_91 (i : Nat) : BitVec 32 := match i % 128 with
  | 0 => 0x3F7C1C5C#32
  | 1 => 0x3F000000#32
  | 2 => 0xBEAF1D44#32
  | 3 => 0xBF708FB2#32
  | 4 => 0xBF5DB3D7#32
  | 5 => 0xBE31D0D4#32
  | 6 => 0x3F248DBB#32
  | 7 => 0x3F800000#32
  | 8 => 0x3F248DBB#32
  | 9 => 0xBE31D0D4#32
  | 10 => 0xBF5DB3D7#32
  | 11 => 0xBF708FB2#32
  | 12 => 0xBEAF1D44#32
  | 13 => 0x3F000000#32
  | 14 => 0x3F7C1C5C#32
  | 15 => 0x3F441B7D#32
  | 16 => 0x80000000#32
  | 17 => 0xBF441B7D#32
  | 18 => 0xBF7C1C5C#32
  | 19 => 0xBF000000#32
  | 20 => 0x3EAF1D44#32
  | 21 => 0x3F708FB2#32
  | 22 => 0x3F5DB3D7#32
  | 23 => 0x3E31D0D4#32
  | 24 => 0xBF248DBB#32
  | 25 => 0xBF800000#32
  | 26 => 0xBF248DBB#32
  | 27 => 0x3E31D0D4#32
  | 28 => 0x3F5DB3D7#32
  | 29 => 0x3F708FB2#32
  | 30 => 0x3EAF1D44#32
  | 31 => 0xBF000000#32
  | 32 => 0xBF7C1C5C#32
  | 33 => 0xBF441B7D#32
  | 34 => 0xA50D3132#32
  | 35 => 0x3F441B7D#32
  | 36 => 0x3F7C1C5C#32
  | 37 => 0x3F000000#32
  | 38 => 0xBEAF1D44#32
  | 39 => 0xBF708FB2#32
  | 40 => 0xBF5DB3D7#32
  | 41 => 0xBE31D0D4#32
  | 42 => 0x3F248DBB#32
  | 43 => 0x3F800000#32
  | 44 => 0x3F248DBB#32
  | 45 => 0xBE31D0D4#32
  | 46 => 0xBF5DB3D7#32
  | 47 => 0xBF708FB2#32
  | 48 => 0xBEAF1D44#32
  | 49 => 0x3F000000#32
  | 50 => 0x3F7C1C5C#32
  | 51 => 0x3F441B7D#32
  | 52 => 0x80000000#32
  | 53 => 0xBF441B7D#32
  | 54 => 0xBF7C1C5C#32
  | 55 => 0xBF000000#32
  | 56 => 0x3EAF1D44#32
  | 57 => 0x3F708FB2#32
  | 58 => 0x3F5DB3D7#32
  | 59 => 0x3E31D0D4#32
  | 60 => 0xBF248DBB#32
  | 61 => 0xBF800000#32
  | 62 => 0xBF248DBB#32
  | 63 => 0x3E31D0D4#32
  | 64 => 0x3F5DB3D7#32
  | 65 => 0x3F708FB2#32
  | 66 => 0x3EAF1D44#32
  | 67 => 0xBF000000#32
  | 68 => 0xBF7C1C5C#32
  | 69 => 0xBF441B7D#32
  | 70 => 0xA50D3132#32
  | 71 => 0x3F441B7D#32
  | 72 => 0x3F7C1C5C#32
  | 73 => 0x3F000000#32
  | 74 => 0xBEAF1D44#32
  | 75 => 0xBF708FB2#32
  | 76 => 0xBF5DB3D7#32
  | 77 => 0xBE31D0D4#32
  | 78 => 0x3F248DBB#32
  | 79 => 0x3F800000#32
  | 80 => 0x3F248DBB#32
  | 81 => 0xBE31D0D4#32
  | 82 => 0xBF5DB3D7#32
  | 83 => 0xBF708FB2#32
  | 84 => 0xBEAF1D44#32
  | 85 => 0x3F000000#32
  | 86 => 0x3F7C1C5C#32
  | 87 => 0x3F441B7D#32
  | 88 => 0x80000000#32
  | 89 => 0xBF441B7D#32
  | 90 => 0xBF7C1C5C#32
  | 91 => 0xBF000000#32
  | 92 => 0x3EAF1D44#32
  | 93 => 0x3F708FB2#32
  | 94 => 0x3F5DB3D7#32
  | 95 => 0x3E31D0D4#32
  | 96 => 0xBF248DBB#32
  | 97 => 0xBF800000#32
  | 98 => 0xBF248DBB#32
  | 99 => 0x3E31D0D4#32
  | 100 => 0x3F5DB3D7#32
  | 101 => 0x3F708FB2#32
  | 102 => 0x3EAF1D44#32
  | 103 => 0xBF000000#32
  | 104 => 0xBF7C1C5C#32
  | 105 => 0xBF441B7D#32
  | 106 => 0xA50D3132#32
  | 107 => 0x3F441B7D#32
  | 108 => 0x3F7C1C5C#32
  | 109 => 0x3F000000#32
  | 110 => 0xBEAF1D44#32
  | 111 => 0xBF708FB2#32
  | 112 => 0xBF5DB3D7#32
  | 113 => 0xBE31D0D4#32
  | 114 => 0x3F248DBB#32
  | 115 => 0x3F800000#32
  | 116 => 0x3F248DBB#32
  | 117 => 0xBE31D0D4#32
  | 118 => 0xBF5DB3D7#32
  | 119 => 0xBF708FB2#32
  | 120 => 0xBEAF1D44#32
  | 121 => 0x3F000000#32
  | 122 => 0x3F7C1C5C#32
  | 123 => 0x3F441B7D#32
  | 124 => 0x80000000#32
  | 125 => 0xBF441B7D#32
  | 126 => 0xBF7C1C5C#32
  | 127 => 0xBF000000#32
  | _ => 0#32

noncomputable abbrev lit1t0_92 (i : Nat) : BitVec 32 := match i % 128 with
  | 0 => 0x3EAF1D44#32
  | 1 => 0x3F708FB2#32
  | 2 => 0x3F5DB3D7#32
  | 3 => 0x3E31D0D4#32
  | 4 => 0xBF248DBB#32
  | 5 => 0xBF800000#32
  | 6 => 0xBF248DBB#32
  | 7 => 0x3E31D0D4#32
  | 8 => 0x3F5DB3D7#32
  | 9 => 0x3F708FB2#32
  | 10 => 0x3EAF1D44#32
  | 11 => 0xBF000000#32
  | 12 => 0xBF7C1C5C#32
  | 13 => 0xBF441B7D#32
  | 14 => 0xA50D3132#32
  | 15 => 0x3F441B7D#32
  | 16 => 0x3F7C1C5C#32
  | 17 => 0x3F000000#32
  | 18 => 0xBEAF1D44#32
  | 19 => 0xBF708FB2#32
  | 20 => 0xBF5DB3D7#32
  | 21 => 0xBE31D0D4#32
  | 22 => 0x3F248DBB#32
  | 23 => 0x3F800000#32
  | 24 => 0x3F248DBB#32
  | 25 => 0xBE31D0D4#32
  | 26 => 0xBF5DB3D7#32
  | 27 => 0xBF708FB2#32
  | 28 => 0xBEAF1D44#32
  | 29 => 0x3F000000#32
  | 30 => 0x3F7C1C5C#32
  | 31 => 0x3F441B7D#32
  | 32 => 0x80000000#32
  | 33 => 0xBF47A682#32
  | 34 => 0xBF79EE89#32
  | 35 => 0xBEE273AA#32
  | 36 => 0x3ED8616C#32
  | 37 => 0x3F78A9E0#32
  | 38 => 0x3F4B1934#32
  | 39 => 0x3CB2B521#32
  | 40 => 0xBF441B7D#32
  | 41 => 0xBF7B14BE#32
  | 42 => 0xBEEC6A50#32
  | 43 => 0x3ECE34D0#32
  | 44 => 0x3F7746EA#32
  | 45 => 0x3F4E7327#32
  | 46 => 0x3D32AA3E#32
  | 47 => 0xBF407893#32
  | 48 => 0xBF7C1C5C#32
  | 49 => 0xBEF64429#32
  | 50 => 0x3EC3EF15#32
  | 51 => 0x3F75C5D4#32
  | 52 => 0x3F51B3F3#32
  | 53 => 0x3D85F213#32
  | 54 => 0xBF3CBE35#32
  | 55 => 0xBF7D0543#32
  | 56 => 0xBF000000#32
  | 57 => 0x3EB9917B#32
  | 58 => 0x3F7426CB#32
  | 59 => 0x3F54DB31#32
  | 60 => 0x3DB27EB6#32
  | 61 => 0xBF38ECD8#32
  | 62 => 0xBF7DCF55#32
  | 63 => 0xBF04CE53#32
  | 64 => 0x3EAF1D44#32
  | 65 => 0x3F726A03#32
  | 66 => 0x3F57E880#32
  | 67 => 0x3DDEF599#32
  | 68 => 0xBF3504F3#32
  | 69 => 0xBF7E7A7A#32
  | 70 => 0xBF098C78#32
  | 71 => 0x3EA493B7#32
  | 72 => 0x3F708FB2#32
  | 73 => 0x3F5ADB81#32
  | 74 => 0x3E05A8A8#32
  | 75 => 0xBF310700#32
  | 76 => 0xBF7F069E#32
  | 77 => 0xBF0E39DA#32
  | 78 => 0x3E99F61C#32
  | 79 => 0x3F6E9811#32
  | 80 => 0x3F5DB3D7#32
  | 81 => 0x3E1BC63C#32
  | 82 => 0xBF2CF37B#32
  | 83 => 0xBF7F73AF#32
  | 84 => 0xBF12D5E8#32
  | 85 => 0x3E8F45C0#32
  | 86 => 0x3F6C835E#32
  | 87 => 0x3F60712A#32
  | 88 => 0x3E31D0D4#32
  | 89 => 0xBF28CAE3#32
  | 90 => 0xBF7FC1A0#32
  | 91 => 0xBF176012#32
  | 92 => 0x3E8483EE#32
  | 93 => 0x3F6A51DA#32
  | 94 => 0x3F631324#32
  | 95 => 0x3E47C5C2#32
  | 96 => 0xBF248DBB#32
  | 97 => 0xBF7FF067#32
  | 98 => 0xBF1BD7CA#32
  | 99 => 0x3E7363EE#32
  | 100 => 0x3F6803CA#32
  | 101 => 0x3F659974#32
  | 102 => 0x3E5DA259#32
  | 103 => 0xBF203C85#32
  | 104 => 0xBF800000#32
  | 105 => 0xBF203C85#32
  | 106 => 0x3E5DA259#32
  | 107 => 0x3F659974#32
  | 108 => 0x3F6803CA#32
  | 109 => 0x3E7363EE#32
  | 110 => 0xBF1BD7CA#32
  | 111 => 0xBF7FF067#32
  | 112 => 0xBF248DBB#32
  | 113 => 0x3E47C5C2#32
  | 114 => 0x3F631324#32
  | 115 => 0x3F6A51DA#32
  | 116 => 0x3E8483EE#32
  | 117 => 0xBF176012#32
  | 118 => 0xBF7FC1A0#32
  | 119 => 0xBF28CAE3#32
  | 120 => 0x3E31D0D4#32
  | 121 => 0x3F60712A#32
  | 122 => 0x3F6C835E#32
  | 123 => 0x3E8F45C0#32
  | 124 => 0xBF12D5E8#32
  | 125 => 0xBF7F73AF#32
  | 126 => 0xBF2CF37B#32
  | 127 => 0x3E1BC63C#32
  | _ => 0#32

noncomputable abbrev lit1t0_93 (i : Nat) : BitVec 32 := match i % 128 with
  | 0 => 0x3F5DB3D7#32
  | 1 => 0x3F6E9811#32
  | 2 => 0x3E99F61C#32
  | 3 => 0xBF0E39DA#32
  | 4 => 0xBF7F069E#32
  | 5 => 0xBF310700#32
  | 6 => 0x3E05A8A8#32
  | 7 => 0x3F5ADB81#32
  | 8 => 0x3F708FB2#32
  | 9 => 0x3EA493B7#32
  | 10 => 0xBF098C78#32
  | 11 => 0xBF7E7A7A#32
  | 12 => 0xBF3504F3#32
  | 13 => 0x3DDEF599#32
  | 14 => 0x3F57E880#32
  | 15 => 0x3F726A03#32
  | 16 => 0x3EAF1D44#32
  | 17 => 0xBF04CE53#32
  | 18 => 0xBF7DCF55#32
  | 19 => 0xBF38ECD8#32
  | 20 => 0x3DB27EB6#32
  | 21 => 0x3F54DB31#32
  | 22 => 0x3F7426CB#32
  | 23 => 0x3EB9917B#32
  | 24 => 0xBF000000#32
  | 25 => 0xBF7D0543#32
  | 26 => 0xBF3CBE35#32
  | 27 => 0x3D85F213#32
  | 28 => 0x3F51B3F3#32
  | 29 => 0x3F75C5D4#32
  | 30 => 0x3EC3EF15#32
  | 31 => 0xBEF64429#32
  | 32 => 0xBF7C1C5C#32
  | 33 => 0xBF407893#32
  | 34 => 0x3D32AA3E#32
  | 35 => 0x3F4E7327#32
  | 36 => 0x3F7746EA#32
  | 37 => 0x3ECE34D0#32
  | 38 => 0xBEEC6A50#32
  | 39 => 0xBF7B14BE#32
  | 40 => 0xBF441B7D#32
  | 41 => 0x3CB2B521#32
  | 42 => 0x3F4B1934#32
  | 43 => 0x3F78A9E0#32
  | 44 => 0x3ED8616C#32
  | 45 => 0xBEE273AA#32
  | 46 => 0xBF79EE89#32
  | 47 => 0xBF47A682#32
  | 48 => 0xA50D3132#32
  | 49 => 0x3F47A682#32
  | 50 => 0x3F79EE89#32
  | 51 => 0x3EE273AA#32
  | 52 => 0xBED8616C#32
  | 53 => 0xBF78A9E0#32
  | 54 => 0xBF4B1934#32
  | 55 => 0xBCB2B521#32
  | 56 => 0x3F441B7D#32
  | 57 => 0x3F7B14BE#32
  | 58 => 0x3EEC6A50#32
  | 59 => 0xBECE34D0#32
  | 60 => 0xBF7746EA#32
  | 61 => 0xBF4E7327#32
  | 62 => 0xBD32AA3E#32
  | 63 => 0x3F407893#32
  | 64 => 0x3F7C1C5C#32
  | 65 => 0x3EF64429#32
  | 66 => 0xBEC3EF15#32
  | 67 => 0xBF75C5D4#32
  | 68 => 0xBF51B3F3#32
  | 69 => 0xBD85F213#32
  | 70 => 0x3F3CBE35#32
  | 71 => 0x3F7D0543#32
  | 72 => 0x3F000000#32
  | 73 => 0xBEB9917B#32
  | 74 => 0xBF7426CB#32
  | 75 => 0xBF54DB31#32
  | 76 => 0xBDB27EB6#32
  | 77 => 0x3F38ECD8#32
  | 78 => 0x3F7DCF55#32
  | 79 => 0x3F04CE53#32
  | 80 => 0xBEAF1D44#32
  | 81 => 0xBF726A03#32
  | 82 => 0xBF57E880#32
  | 83 => 0xBDDEF599#32
  | 84 => 0x3F3504F3#32
  | 85 => 0x3F7E7A7A#32
  | 86 => 0x3F098C78#32
  | 87 => 0xBEA493B7#32
  | 88 => 0xBF708FB2#32
  | 89 => 0xBF5ADB81#32
  | 90 => 0xBE05A8A8#32
  | 91 => 0x3F310700#32
  | 92 => 0x3F7F069E#32
  | 93 => 0x3F0E39DA#32
  | 94 => 0xBE99F61C#32
  | 95 => 0xBF6E9811#32
  | 96 => 0xBF5DB3D7#32
  | 97 => 0xBE1BC63C#32
  | 98 => 0x3F2CF37B#32
  | 99 => 0x3F7F73AF#32
  | 100 => 0x3F12D5E8#32
  | 101 => 0xBE8F45C0#32
  | 102 => 0xBF6C835E#32
  | 103 => 0xBF60712A#32
  | 104 => 0xBE31D0D4#32
  | 105 => 0x3F28CAE3#32
  | 106 => 0x3F7FC1A0#32
  | 107 => 0x3F176012#32
  | 108 => 0xBE8483EE#32
  | 109 => 0xBF6A51DA#32
  | 110 => 0xBF631324#32
  | 111 => 0xBE47C5C2#32
  | 112 => 0x3F248DBB#32
  | 113 => 0x3F7FF067#32
  | 114 => 0x3F1BD7CA#32
  | 115 => 0xBE7363EE#32
  | 116 => 0xBF6803CA#32
  | 117 => 0xBF659974#32
  | 118 => 0xBE5DA259#32
  | 119 => 0x3F203C85#32
  | 120 => 0x3F800000#32
  | 121 => 0x3F203C85#32
  | 122 => 0xBE5DA259#32
  | 123 => 0xBF659974#32
  | 124 => 0xBF6803CA#32
  | 125 => 0xBE7363EE#32
  | 126 => 0x3F1BD7CA#32
  | 127 => 0x3F7FF067#32
  | _ => 0#32

noncomputable abbrev lit1t0_94 (i : Nat) : BitVec 32 := match i % 128 with
  | 0 => 0x3F248DBB#32
  | 1 => 0xBE47C5C2#32
  | 2 => 0xBF631324#32
  | 3 => 0xBF6A51DA#32
  | 4 => 0xBE8483EE#32
  | 5 => 0x3F176012#32
  | 6 => 0x3F7FC1A0#32
  | 7 => 0x3F28CAE3#32
  | 8 => 0xBE31D0D4#32
  | 9 => 0xBF60712A#32
  | 10 => 0xBF6C835E#32
  | 11 => 0xBE8F45C0#32
  | 12 => 0x3F12D5E8#32
  | 13 => 0x3F7F73AF#32
  | 14 => 0x3F2CF37B#32
  | 15 => 0xBE1BC63C#32
  | 16 => 0xBF5DB3D7#32
  | 17 => 0xBF6E9811#32
  | 18 => 0xBE99F61C#32
  | 19 => 0x3F0E39DA#32
  | 20 => 0x3F7F069E#32
  | 21 => 0x3F310700#32
  | 22 => 0xBE05A8A8#32
  | 23 => 0xBF5ADB81#32
  | 24 => 0xBF708FB2#32
  | 25 => 0xBEA493B7#32
  | 26 => 0x3F098C78#32
  | 27 => 0x3F7E7A7A#32
  | 28 => 0x3F3504F3#32
  | 29 => 0xBDDEF599#32
  | 30 => 0xBF57E880#32
  | 31 => 0xBF726A03#32
  | 32 => 0xBEAF1D44#32
  | 33 => 0x3F04CE53#32
  | 34 => 0x3F7DCF55#32
  | 35 => 0x3F38ECD8#32
  | 36 => 0xBDB27EB6#32
  | 37 => 0xBF54DB31#32
  | 38 => 0xBF7426CB#32
  | 39 => 0xBEB9917B#32
  | 40 => 0x3F000000#32
  | 41 => 0x3F7D0543#32
  | 42 => 0x3F3CBE35#32
  | 43 => 0xBD85F213#32
  | 44 => 0xBF51B3F3#32
  | 45 => 0xBF75C5D4#32
  | 46 => 0xBEC3EF15#32
  | 47 => 0x3EF64429#32
  | 48 => 0x3F7C1C5C#32
  | 49 => 0x3F407893#32
  | 50 => 0xBD32AA3E#32
  | 51 => 0xBF4E7327#32
  | 52 => 0xBF7746EA#32
  | 53 => 0xBECE34D0#32
  | 54 => 0x3EEC6A50#32
  | 55 => 0x3F7B14BE#32
  | 56 => 0x3F441B7D#32
  | 57 => 0xBCB2B521#32
  | 58 => 0xBF4B1934#32
  | 59 => 0xBF78A9E0#32
  | 60 => 0xBED8616C#32
  | 61 => 0x3EE273AA#32
  | 62 => 0x3F79EE89#32
  | 63 => 0x3F47A682#32
  | 64 => 0x80000000#32
  | 65 => 0xBF4B1934#32
  | 66 => 0xBF7746EA#32
  | 67 => 0xBEC3EF15#32
  | 68 => 0x3F000000#32
  | 69 => 0x3F7DCF55#32
  | 70 => 0x3F3504F3#32
  | 71 => 0xBE05A8A8#32
  | 72 => 0xBF5DB3D7#32
  | 73 => 0xBF6C835E#32
  | 74 => 0xBE8483EE#32
  | 75 => 0x3F1BD7CA#32
  | 76 => 0x3F800000#32
  | 77 => 0x3F1BD7CA#32
  | 78 => 0xBE8483EE#32
  | 79 => 0xBF6C835E#32
  | 80 => 0xBF5DB3D7#32
  | 81 => 0xBE05A8A8#32
  | 82 => 0x3F3504F3#32
  | 83 => 0x3F7DCF55#32
  | 84 => 0x3F000000#32
  | 85 => 0xBEC3EF15#32
  | 86 => 0xBF7746EA#32
  | 87 => 0xBF4B1934#32
  | 88 => 0xA50D3132#32
  | 89 => 0x3F4B1934#32
  | 90 => 0x3F7746EA#32
  | 91 => 0x3EC3EF15#32
  | 92 => 0xBF000000#32
  | 93 => 0xBF7DCF55#32
  | 94 => 0xBF3504F3#32
  | 95 => 0x3E05A8A8#32
  | 96 => 0x3F5DB3D7#32
  | 97 => 0x3F6C835E#32
  | 98 => 0x3E8483EE#32
  | 99 => 0xBF1BD7CA#32
  | 100 => 0xBF800000#32
  | 101 => 0xBF1BD7CA#32
  | 102 => 0x3E8483EE#32
  | 103 => 0x3F6C835E#32
  | 104 => 0x3F5DB3D7#32
  | 105 => 0x3E05A8A8#32
  | 106 => 0xBF3504F3#32
  | 107 => 0xBF7DCF55#32
  | 108 => 0xBF000000#32
  | 109 => 0x3EC3EF15#32
  | 110 => 0x3F7746EA#32
  | 111 => 0x3F4B1934#32
  | 112 => 0x80000000#32
  | 113 => 0xBF4B1934#32
  | 114 => 0xBF7746EA#32
  | 115 => 0xBEC3EF15#32
  | 116 => 0x3F000000#32
  | 117 => 0x3F7DCF55#32
  | 118 => 0x3F3504F3#32
  | 119 => 0xBE05A8A8#32
  | 120 => 0xBF5DB3D7#32
  | 121 => 0xBF6C835E#32
  | 122 => 0xBE8483EE#32
  | 123 => 0x3F1BD7CA#32
  | 124 => 0x3F800000#32
  | 125 => 0x3F1BD7CA#32
  | 126 => 0xBE8483EE#32
  | 127 => 0xBF6C835E#32
  | _ => 0#32

noncomputable abbrev lit1t0_95 (i : Nat) : BitVec 32 := match i % 128 with
  | 0 => 0xBF5DB3D7#32
  | 1 => 0xBE05A8A8#32
  | 2 => 0x3F3504F3#32
  | 3 => 0x3F7DCF55#32
  | 4 => 0x3F000000#32
  | 5 => 0xBEC3EF15#32
  | 6 => 0xBF7746EA#32
  | 7 => 0xBF4B1934#32
  | 8 => 0xA50D3132#32
  | 9 => 0x3F4B1934#32
  | 10 => 0x3F7746EA#32
  | 11 => 0x3EC3EF15#32
  | 12 => 0xBF000000#32
  | 13 => 0xBF7DCF55#32
  | 14 => 0xBF3504F3#32
  | 15 => 0x3E05A8A8#32
  | 16 => 0x3F5DB3D7#32
  | 17 => 0x3F6C835E#32
  | 18 => 0x3E8483EE#32
  | 19 => 0xBF1BD7CA#32
  | 20 => 0xBF800000#32
  | 21 => 0xBF1BD7CA#32
  | 22 => 0x3E8483EE#32
  | 23 => 0x3F6C835E#32
  | 24 => 0x3F5DB3D7#32
  | 25 => 0x3E05A8A8#32
  | 26 => 0xBF3504F3#32
  | 27 => 0xBF7DCF55#32
  | 28 => 0xBF000000#32
  | 29 => 0x3EC3EF15#32
  | 30 => 0x3F7746EA#32
  | 31 => 0x3F4B1934#32
  | 32 => 0x80000000#32
  | 33 => 0xBF4B1934#32
  | 34 => 0xBF7746EA#32
  | 35 => 0xBEC3EF15#32
  | 36 => 0x3F000000#32
  | 37 => 0x3F7DCF55#32
  | 38 => 0x3F3504F3#32
  | 39 => 0xBE05A8A8#32
  | 40 => 0xBF5DB3D7#32
  | 41 => 0xBF6C835E#32
  | 42 => 0xBE8483EE#32
  | 43 => 0x3F1BD7CA#32
  | 44 => 0x3F800000#32
  | 45 => 0x3F1BD7CA#32
  | 46 => 0xBE8483EE#32
  | 47 => 0xBF6C835E#32
  | 48 => 0xBF5DB3D7#32
  | 49 => 0xBE05A8A8#32
  | 50 => 0x3F3504F3#32
  | 51 => 0x3F7DCF55#32
  | 52 => 0x3F000000#32
  | 53 => 0xBEC3EF15#32
  | 54 => 0xBF7746EA#32
  | 55 => 0xBF4B1934#32
  | 56 => 0xA50D3132#32
  | 57 => 0x3F4B1934#32
  | 58 => 0x3F7746EA#32
  | 59 => 0x3EC3EF15#32
  | 60 => 0xBF000000#32
  | 61 => 0xBF7DCF55#32
  | 62 => 0xBF3504F3#32
  | 63 => 0x3E05A8A8#32
  | 64 => 0x3F5DB3D7#32
  | 65 => 0x3F6C835E#32
  | 66 => 0x3E8483EE#32
  | 67 => 0xBF1BD7CA#32
  | 68 => 0xBF800000#32
  | 69 => 0xBF1BD7CA#32
  | 70 => 0x3E8483EE#32
  | 71 => 0x3F6C835E#32
  | 72 => 0x3F5DB3D7#32
  | 73 => 0x3E05A8A8#32
  | 74 => 0xBF3504F3#32
  | 75 => 0xBF7DCF55#32
  | 76 => 0xBF000000#32
  | 77 => 0x3EC3EF15#32
  | 78 => 0x3F7746EA#32
  | 79 => 0x3F4B1934#32
  | 80 => 0x80000000#32
  | 81 => 0xBF4B1934#32
  | 82 => 0xBF7746EA#32
  | 83 => 0xBEC3EF15#32
  | 84 => 0x3F000000#32
  | 85 => 0x3F7DCF55#32
  | 86 => 0x3F3504F3#32
  | 87 => 0xBE05A8A8#32
  | 88 => 0xBF5DB3D7#32
  | 89 => 0xBF6C835E#32
  | 90 => 0xBE8483EE#32
  | 91 => 0x3F1BD7CA#32
  | 92 => 0x3F800000#32
  | 93 => 0x3F1BD7CA#32
  | 94 => 0xBE8483EE#32
  | 95 => 0xBF6C835E#32
  | 96 => 0xBF5DB3D7#32
  | 97 => 0xBE05A8A8#32
  | 98 => 0x3F3504F3#32
  | 99 => 0x3F7DCF55#32
  | 100 => 0x3F000000#32
  | 101 => 0xBEC3EF15#32
  | 102 => 0xBF7746EA#32
  | 103 => 0xBF4B1934#32
  | 104 => 0xA50D3132#32
  | 105 => 0x3F4B1934#32
  | 106 => 0x3F7746EA#32
  | 107 => 0x3EC3EF15#32
  | 108 => 0xBF000000#32
  | 109 => 0xBF7DCF55#32
  | 110 => 0xBF3504F3#32
  | 111 => 0x3E05A8A8#32
  | 112 => 0x3F5DB3D7#32
  | 113 => 0x3F6C835E#32
  | 114 => 0x3E8483EE#32
  | 115 => 0xBF1BD7CA#32
  | 116 => 0xBF800000#32
  | 117 => 0xBF1BD7CA#32
  | 118 => 0x3E8483EE#32
  | 119 => 0x3F6C835E#32
  | 120 => 0x3F5DB3D7#32
  | 121 => 0x3E05A8A8#32
  | 122 => 0xBF3504F3#32
  | 123 => 0xBF7DCF55#32
  | 124 => 0xBF000000#32
  | 125 => 0x3EC3EF15#32
  | 126 => 0x3F7746EA#32
  | 127 => 0x3F4B1934#32
  | _ => 0#32

noncomputable abbrev lit1t0_96 (i : Nat) : BitVec 32 := match i % 128 with
  | 0 => 0x80000000#32
  | 1 => 0xBF4B1934#32
  | 2 => 0xBF7746EA#32
  | 3 => 0xBEC3EF15#32
  | 4 => 0x3F000000#32
  | 5 => 0x3F7DCF55#32
  | 6 => 0x3F3504F3#32
  | 7 => 0xBE05A8A8#32
  | 8 => 0xBF5DB3D7#32
  | 9 => 0xBF6C835E#32
  | 10 => 0xBE8483EE#32
  | 11 => 0x3F1BD7CA#32
  | 12 => 0x3F800000#32
  | 13 => 0x3F1BD7CA#32
  | 14 => 0xBE8483EE#32
  | 15 => 0xBF6C835E#32
  | 16 => 0xBF5DB3D7#32
  | 17 => 0xBE05A8A8#32
  | 18 => 0x3F3504F3#32
  | 19 => 0x3F7DCF55#32
  | 20 => 0x3F000000#32
  | 21 => 0xBEC3EF15#32
  | 22 => 0xBF7746EA#32
  | 23 => 0xBF4B1934#32
  | 24 => 0xA50D3132#32
  | 25 => 0x3F4B1934#32
  | 26 => 0x3F7746EA#32
  | 27 => 0x3EC3EF15#32
  | 28 => 0xBF000000#32
  | 29 => 0xBF7DCF55#32
  | 30 => 0xBF3504F3#32
  | 31 => 0x3E05A8A8#32
  | 32 => 0x3F5DB3D7#32
  | 33 => 0x3F6C835E#32
  | 34 => 0x3E8483EE#32
  | 35 => 0xBF1BD7CA#32
  | 36 => 0xBF800000#32
  | 37 => 0xBF1BD7CA#32
  | 38 => 0x3E8483EE#32
  | 39 => 0x3F6C835E#32
  | 40 => 0x3F5DB3D7#32
  | 41 => 0x3E05A8A8#32
  | 42 => 0xBF3504F3#32
  | 43 => 0xBF7DCF55#32
  | 44 => 0xBF000000#32
  | 45 => 0x3EC3EF15#32
  | 46 => 0x3F7746EA#32
  | 47 => 0x3F4B1934#32
  | 48 => 0x80000000#32
  | 49 => 0xBF4B1934#32
  | 50 => 0xBF7746EA#32
  | 51 => 0xBEC3EF15#32
  | 52 => 0x3F000000#32
  | 53 => 0x3F7DCF55#32
  | 54 => 0x3F3504F3#32
  | 55 => 0xBE05A8A8#32
  | 56 => 0xBF5DB3D7#32
  | 57 => 0xBF6C835E#32
  | 58 => 0xBE8483EE#32
  | 59 => 0x3F1BD7CA#32
  | 60 => 0x3F800000#32
  | 61 => 0x3F1BD7CA#32
  | 62 => 0xBE8483EE#32
  | 63 => 0xBF6C835E#32
  | 64 => 0xBF5DB3D7#32
  | 65 => 0xBE05A8A8#32
  | 66 => 0x3F3504F3#32
  | 67 => 0x3F7DCF55#32
  | 68 => 0x3F000000#32
  | 69 => 0xBEC3EF15#32
  | 70 => 0xBF7746EA#32
  | 71 => 0xBF4B1934#32
  | 72 => 0xA50D3132#32
  | 73 => 0x3F4B1934#32
  | 74 => 0x3F7746EA#32
  | 75 => 0x3EC3EF15#32
  | 76 => 0xBF000000#32
  | 77 => 0xBF7DCF55#32
  | 78 => 0xBF3504F3#32
  | 79 => 0x3E05A8A8#32
  | 80 => 0x3F5DB3D7#32
  | 81 => 0x3F6C835E#32
  | 82 => 0x3E8483EE#32
  | 83 => 0xBF1BD7CA#32
  | 84 => 0xBF800000#32
  | 85 => 0xBF1BD7CA#32
  | 86 => 0x3E8483EE#32
  | 87 => 0x3F6C835E#32
  | 88 => 0x3F5DB3D7#32
  | 89 => 0x3E05A8A8#32
  | 90 => 0xBF3504F3#32
  | 91 => 0xBF7DCF55#32
  | 92 => 0xBF000000#32
  | 93 => 0x3EC3EF15#32
  | 94 => 0x3F7746EA#32
  | 95 => 0x3F4B1934#32
  | 96 => 0x80000000#32
  | 97 => 0xBF4E7327#32
  | 98 => 0xBF7426CB#32
  | 99 => 0xBEA493B7#32
  | 100 => 0x3F12D5E8#32
  | 101 => 0x3F7FF067#32
  | 102 => 0x3F1BD7CA#32
  | 103 => 0xBE8F45C0#32
  | 104 => 0xBF708FB2#32
  | 105 => 0xBF54DB31#32
  | 106 => 0xBD32AA3E#32
  | 107 => 0x3F47A682#32
  | 108 => 0x3F7746EA#32
  | 109 => 0x3EB9917B#32
  | 110 => 0xBF098C78#32
  | 111 => 0xBF7F73AF#32
  | 112 => 0xBF248DBB#32
  | 113 => 0x3E7363EE#32
  | 114 => 0x3F6C835E#32
  | 115 => 0x3F5ADB81#32
  | 116 => 0x3DB27EB6#32
  | 117 => 0xBF407893#32
  | 118 => 0xBF79EE89#32
  | 119 => 0xBECE34D0#32
  | 120 => 0x3F000000#32
  | 121 => 0x3F7E7A7A#32
  | 122 => 0x3F2CF37B#32
  | 123 => 0xBE47C5C2#32
  | 124 => 0xBF6803CA#32
  | 125 => 0xBF60712A#32
  | 126 => 0xBE05A8A8#32
  | 127 => 0x3F38ECD8#32
  | _ => 0#32

noncomputable abbrev lit1t0_97 (i : Nat) : BitVec 32 := match i % 128 with
  | 0 => 0x3F7C1C5C#32
  | 1 => 0x3EE273AA#32
  | 2 => 0xBEEC6A50#32
  | 3 => 0xBF7D0543#32
  | 4 => 0xBF3504F3#32
  | 5 => 0x3E1BC63C#32
  | 6 => 0x3F631324#32
  | 7 => 0x3F659974#32
  | 8 => 0x3E31D0D4#32
  | 9 => 0xBF310700#32
  | 10 => 0xBF7DCF55#32
  | 11 => 0xBEF64429#32
  | 12 => 0x3ED8616C#32
  | 13 => 0x3F7B14BE#32
  | 14 => 0x3F3CBE35#32
  | 15 => 0xBDDEF599#32
  | 16 => 0xBF5DB3D7#32
  | 17 => 0xBF6A51DA#32
  | 18 => 0xBE5DA259#32
  | 19 => 0x3F28CAE3#32
  | 20 => 0x3F7F069E#32
  | 21 => 0x3F04CE53#32
  | 22 => 0xBEC3EF15#32
  | 23 => 0xBF78A9E0#32
  | 24 => 0xBF441B7D#32
  | 25 => 0x3D85F213#32
  | 26 => 0x3F57E880#32
  | 27 => 0x3F6E9811#32
  | 28 => 0x3E8483EE#32
  | 29 => 0xBF203C85#32
  | 30 => 0xBF7FC1A0#32
  | 31 => 0xBF0E39DA#32
  | 32 => 0x3EAF1D44#32
  | 33 => 0x3F75C5D4#32
  | 34 => 0x3F4B1934#32
  | 35 => 0xBCB2B521#32
  | 36 => 0xBF51B3F3#32
  | 37 => 0xBF726A03#32
  | 38 => 0xBE99F61C#32
  | 39 => 0x3F176012#32
  | 40 => 0x3F800000#32
  | 41 => 0x3F176012#32
  | 42 => 0xBE99F61C#32
  | 43 => 0xBF726A03#32
  | 44 => 0xBF51B3F3#32
  | 45 => 0xBCB2B521#32
  | 46 => 0x3F4B1934#32
  | 47 => 0x3F75C5D4#32
  | 48 => 0x3EAF1D44#32
  | 49 => 0xBF0E39DA#32
  | 50 => 0xBF7FC1A0#32
  | 51 => 0xBF203C85#32
  | 52 => 0x3E8483EE#32
  | 53 => 0x3F6E9811#32
  | 54 => 0x3F57E880#32
  | 55 => 0x3D85F213#32
  | 56 => 0xBF441B7D#32
  | 57 => 0xBF78A9E0#32
  | 58 => 0xBEC3EF15#32
  | 59 => 0x3F04CE53#32
  | 60 => 0x3F7F069E#32
  | 61 => 0x3F28CAE3#32
  | 62 => 0xBE5DA259#32
  | 63 => 0xBF6A51DA#32
  | 64 => 0xBF5DB3D7#32
  | 65 => 0xBDDEF599#32
  | 66 => 0x3F3CBE35#32
  | 67 => 0x3F7B14BE#32
  | 68 => 0x3ED8616C#32
  | 69 => 0xBEF64429#32
  | 70 => 0xBF7DCF55#32
  | 71 => 0xBF310700#32
  | 72 => 0x3E31D0D4#32
  | 73 => 0x3F659974#32
  | 74 => 0x3F631324#32
  | 75 => 0x3E1BC63C#32
  | 76 => 0xBF3504F3#32
  | 77 => 0xBF7D0543#32
  | 78 => 0xBEEC6A50#32
  | 79 => 0x3EE273AA#32
  | 80 => 0x3F7C1C5C#32
  | 81 => 0x3F38ECD8#32
  | 82 => 0xBE05A8A8#32
  | 83 => 0xBF60712A#32
  | 84 => 0xBF6803CA#32
  | 85 => 0xBE47C5C2#32
  | 86 => 0x3F2CF37B#32
  | 87 => 0x3F7E7A7A#32
  | 88 => 0x3F000000#32
  | 89 => 0xBECE34D0#32
  | 90 => 0xBF79EE89#32
  | 91 => 0xBF407893#32
  | 92 => 0x3DB27EB6#32
  | 93 => 0x3F5ADB81#32
  | 94 => 0x3F6C835E#32
  | 95 => 0x3E7363EE#32
  | 96 => 0xBF248DBB#32
  | 97 => 0xBF7F73AF#32
  | 98 => 0xBF098C78#32
  | 99 => 0x3EB9917B#32
  | 100 => 0x3F7746EA#32
  | 101 => 0x3F47A682#32
  | 102 => 0xBD32AA3E#32
  | 103 => 0xBF54DB31#32
  | 104 => 0xBF708FB2#32
  | 105 => 0xBE8F45C0#32
  | 106 => 0x3F1BD7CA#32
  | 107 => 0x3F7FF067#32
  | 108 => 0x3F12D5E8#32
  | 109 => 0xBEA493B7#32
  | 110 => 0xBF7426CB#32
  | 111 => 0xBF4E7327#32
  | 112 => 0xA50D3132#32
  | 113 => 0x3F4E7327#32
  | 114 => 0x3F7426CB#32
  | 115 => 0x3EA493B7#32
  | 116 => 0xBF12D5E8#32
  | 117 => 0xBF7FF067#32
  | 118 => 0xBF1BD7CA#32
  | 119 => 0x3E8F45C0#32
  | 120 => 0x3F708FB2#32
  | 121 => 0x3F54DB31#32
  | 122 => 0x3D32AA3E#32
  | 123 => 0xBF47A682#32
  | 124 => 0xBF7746EA#32
  | 125 => 0xBEB9917B#32
  | 126 => 0x3F098C78#32
  | 127 => 0x3F7F73AF#32
  | _ => 0#32

noncomputable abbrev lit1t0_98 (i : Nat) : BitVec 32 := match i % 128 with
  | 0 => 0x3F248DBB#32
  | 1 => 0xBE7363EE#32
  | 2 => 0xBF6C835E#32
  | 3 => 0xBF5ADB81#32
  | 4 => 0xBDB27EB6#32
  | 5 => 0x3F407893#32
  | 6 => 0x3F79EE89#32
  | 7 => 0x3ECE34D0#32
  | 8 => 0xBF000000#32
  | 9 => 0xBF7E7A7A#32
  | 10 => 0xBF2CF37B#32
  | 11 => 0x3E47C5C2#32
  | 12 => 0x3F6803CA#32
  | 13 => 0x3F60712A#32
  | 14 => 0x3E05A8A8#32
  | 15 => 0xBF38ECD8#32
  | 16 => 0xBF7C1C5C#32
  | 17 => 0xBEE273AA#32
  | 18 => 0x3EEC6A50#32
  | 19 => 0x3F7D0543#32
  | 20 => 0x3F3504F3#32
  | 21 => 0xBE1BC63C#32
  | 22 => 0xBF631324#32
  | 23 => 0xBF659974#32
  | 24 => 0xBE31D0D4#32
  | 25 => 0x3F310700#32
  | 26 => 0x3F7DCF55#32
  | 27 => 0x3EF64429#32
  | 28 => 0xBED8616C#32
  | 29 => 0xBF7B14BE#32
  | 30 => 0xBF3CBE35#32
  | 31 => 0x3DDEF599#32
  | 32 => 0x3F5DB3D7#32
  | 33 => 0x3F6A51DA#32
  | 34 => 0x3E5DA259#32
  | 35 => 0xBF28CAE3#32
  | 36 => 0xBF7F069E#32
  | 37 => 0xBF04CE53#32
  | 38 => 0x3EC3EF15#32
  | 39 => 0x3F78A9E0#32
  | 40 => 0x3F441B7D#32
  | 41 => 0xBD85F213#32
  | 42 => 0xBF57E880#32
  | 43 => 0xBF6E9811#32
  | 44 => 0xBE8483EE#32
  | 45 => 0x3F203C85#32
  | 46 => 0x3F7FC1A0#32
  | 47 => 0x3F0E39DA#32
  | 48 => 0xBEAF1D44#32
  | 49 => 0xBF75C5D4#32
  | 50 => 0xBF4B1934#32
  | 51 => 0x3CB2B521#32
  | 52 => 0x3F51B3F3#32
  | 53 => 0x3F726A03#32
  | 54 => 0x3E99F61C#32
  | 55 => 0xBF176012#32
  | 56 => 0xBF800000#32
  | 57 => 0xBF176012#32
  | 58 => 0x3E99F61C#32
  | 59 => 0x3F726A03#32
  | 60 => 0x3F51B3F3#32
  | 61 => 0x3CB2B521#32
  | 62 => 0xBF4B1934#32
  | 63 => 0xBF75C5D4#32
  | 64 => 0xBEAF1D44#32
  | 65 => 0x3F0E39DA#32
  | 66 => 0x3F7FC1A0#32
  | 67 => 0x3F203C85#32
  | 68 => 0xBE8483EE#32
  | 69 => 0xBF6E9811#32
  | 70 => 0xBF57E880#32
  | 71 => 0xBD85F213#32
  | 72 => 0x3F441B7D#32
  | 73 => 0x3F78A9E0#32
  | 74 => 0x3EC3EF15#32
  | 75 => 0xBF04CE53#32
  | 76 => 0xBF7F069E#32
  | 77 => 0xBF28CAE3#32
  | 78 => 0x3E5DA259#32
  | 79 => 0x3F6A51DA#32
  | 80 => 0x3F5DB3D7#32
  | 81 => 0x3DDEF599#32
  | 82 => 0xBF3CBE35#32
  | 83 => 0xBF7B14BE#32
  | 84 => 0xBED8616C#32
  | 85 => 0x3EF64429#32
  | 86 => 0x3F7DCF55#32
  | 87 => 0x3F310700#32
  | 88 => 0xBE31D0D4#32
  | 89 => 0xBF659974#32
  | 90 => 0xBF631324#32
  | 91 => 0xBE1BC63C#32
  | 92 => 0x3F3504F3#32
  | 93 => 0x3F7D0543#32
  | 94 => 0x3EEC6A50#32
  | 95 => 0xBEE273AA#32
  | 96 => 0xBF7C1C5C#32
  | 97 => 0xBF38ECD8#32
  | 98 => 0x3E05A8A8#32
  | 99 => 0x3F60712A#32
  | 100 => 0x3F6803CA#32
  | 101 => 0x3E47C5C2#32
  | 102 => 0xBF2CF37B#32
  | 103 => 0xBF7E7A7A#32
  | 104 => 0xBF000000#32
  | 105 => 0x3ECE34D0#32
  | 106 => 0x3F79EE89#32
  | 107 => 0x3F407893#32
  | 108 => 0xBDB27EB6#32
  | 109 => 0xBF5ADB81#32
  | 110 => 0xBF6C835E#32
  | 111 => 0xBE7363EE#32
  | 112 => 0x3F248DBB#32
  | 113 => 0x3F7F73AF#32
  | 114 => 0x3F098C78#32
  | 115 => 0xBEB9917B#32
  | 116 => 0xBF7746EA#32
  | 117 => 0xBF47A682#32
  | 118 => 0x3D32AA3E#32
  | 119 => 0x3F54DB31#32
  | 120 => 0x3F708FB2#32
  | 121 => 0x3E8F45C0#32
  | 122 => 0xBF1BD7CA#32
  | 123 => 0xBF7FF067#32
  | 124 => 0xBF12D5E8#32
  | 125 => 0x3EA493B7#32
  | 126 => 0x3F7426CB#32
  | 127 => 0x3F4E7327#32
  | _ => 0#32

noncomputable abbrev lit1t0_99 (i : Nat) : BitVec 32 := match i % 128 with
  | 0 => 0x80000000#32
  | 1 => 0xBF51B3F3#32
  | 2 => 0xBF708FB2#32
  | 3 => 0xBE8483EE#32
  | 4 => 0x3F248DBB#32
  | 5 => 0x3F7F069E#32
  | 6 => 0x3F000000#32
  | 7 => 0xBED8616C#32
  | 8 => 0xBF7C1C5C#32
  | 9 => 0xBF3504F3#32
  | 10 => 0x3E31D0D4#32
  | 11 => 0x3F6803CA#32
  | 12 => 0x3F5DB3D7#32
  | 13 => 0x3DB27EB6#32
  | 14 => 0xBF441B7D#32
  | 15 => 0xBF7746EA#32
  | 16 => 0xBEAF1D44#32
  | 17 => 0x3F12D5E8#32
  | 18 => 0x3F800000#32
  | 19 => 0x3F12D5E8#32
  | 20 => 0xBEAF1D44#32
  | 21 => 0xBF7746EA#32
  | 22 => 0xBF441B7D#32
  | 23 => 0x3DB27EB6#32
  | 24 => 0x3F5DB3D7#32
  | 25 => 0x3F6803CA#32
  | 26 => 0x3E31D0D4#32
  | 27 => 0xBF3504F3#32
  | 28 => 0xBF7C1C5C#32
  | 29 => 0xBED8616C#32
  | 30 => 0x3F000000#32
  | 31 => 0x3F7F069E#32
  | 32 => 0x3F248DBB#32
  | 33 => 0xBE8483EE#32
  | 34 => 0xBF708FB2#32
  | 35 => 0xBF51B3F3#32
  | 36 => 0xA50D3132#32
  | 37 => 0x3F51B3F3#32
  | 38 => 0x3F708FB2#32
  | 39 => 0x3E8483EE#32
  | 40 => 0xBF248DBB#32
  | 41 => 0xBF7F069E#32
  | 42 => 0xBF000000#32
  | 43 => 0x3ED8616C#32
  | 44 => 0x3F7C1C5C#32
  | 45 => 0x3F3504F3#32
  | 46 => 0xBE31D0D4#32
  | 47 => 0xBF6803CA#32
  | 48 => 0xBF5DB3D7#32
  | 49 => 0xBDB27EB6#32
  | 50 => 0x3F441B7D#32
  | 51 => 0x3F7746EA#32
  | 52 => 0x3EAF1D44#32
  | 53 => 0xBF12D5E8#32
  | 54 => 0xBF800000#32
  | 55 => 0xBF12D5E8#32
  | 56 => 0x3EAF1D44#32
  | 57 => 0x3F7746EA#32
  | 58 => 0x3F441B7D#32
  | 59 => 0xBDB27EB6#32
  | 60 => 0xBF5DB3D7#32
  | 61 => 0xBF6803CA#32
  | 62 => 0xBE31D0D4#32
  | 63 => 0x3F3504F3#32
  | 64 => 0x3F7C1C5C#32
  | 65 => 0x3ED8616C#32
  | 66 => 0xBF000000#32
  | 67 => 0xBF7F069E#32
  | 68 => 0xBF248DBB#32
  | 69 => 0x3E8483EE#32
  | 70 => 0x3F708FB2#32
  | 71 => 0x3F51B3F3#32
  | 72 => 0x80000000#32
  | 73 => 0xBF51B3F3#32
  | 74 => 0xBF708FB2#32
  | 75 => 0xBE8483EE#32
  | 76 => 0x3F248DBB#32
  | 77 => 0x3F7F069E#32
  | 78 => 0x3F000000#32
  | 79 => 0xBED8616C#32
  | 80 => 0xBF7C1C5C#32
  | 81 => 0xBF3504F3#32
  | 82 => 0x3E31D0D4#32
  | 83 => 0x3F6803CA#32
  | 84 => 0x3F5DB3D7#32
  | 85 => 0x3DB27EB6#32
  | 86 => 0xBF441B7D#32
  | 87 => 0xBF7746EA#32
  | 88 => 0xBEAF1D44#32
  | 89 => 0x3F12D5E8#32
  | 90 => 0x3F800000#32
  | 91 => 0x3F12D5E8#32
  | 92 => 0xBEAF1D44#32
  | 93 => 0xBF7746EA#32
  | 94 => 0xBF441B7D#32
  | 95 => 0x3DB27EB6#32
  | 96 => 0x3F5DB3D7#32
  | 97 => 0x3F6803CA#32
  | 98 => 0x3E31D0D4#32
  | 99 => 0xBF3504F3#32
  | 100 => 0xBF7C1C5C#32
  | 101 => 0xBED8616C#32
  | 102 => 0x3F000000#32
  | 103 => 0x3F7F069E#32
  | 104 => 0x3F248DBB#32
  | 105 => 0xBE8483EE#32
  | 106 => 0xBF708FB2#32
  | 107 => 0xBF51B3F3#32
  | 108 => 0xA50D3132#32
  | 109 => 0x3F51B3F3#32
  | 110 => 0x3F708FB2#32
  | 111 => 0x3E8483EE#32
  | 112 => 0xBF248DBB#32
  | 113 => 0xBF7F069E#32
  | 114 => 0xBF000000#32
  | 115 => 0x3ED8616C#32
  | 116 => 0x3F7C1C5C#32
  | 117 => 0x3F3504F3#32
  | 118 => 0xBE31D0D4#32
  | 119 => 0xBF6803CA#32
  | 120 => 0xBF5DB3D7#32
  | 121 => 0xBDB27EB6#32
  | 122 => 0x3F441B7D#32
  | 123 => 0x3F7746EA#32
  | 124 => 0x3EAF1D44#32
  | 125 => 0xBF12D5E8#32
  | 126 => 0xBF800000#32
  | 127 => 0xBF12D5E8#32
  | _ => 0#32

noncomputable abbrev lit1t0_100 (i : Nat) : BitVec 32 := match i % 128 with
  | 0 => 0x3EAF1D44#32
  | 1 => 0x3F7746EA#32
  | 2 => 0x3F441B7D#32
  | 3 => 0xBDB27EB6#32
  | 4 => 0xBF5DB3D7#32
  | 5 => 0xBF6803CA#32
  | 6 => 0xBE31D0D4#32
  | 7 => 0x3F3504F3#32
  | 8 => 0x3F7C1C5C#32
  | 9 => 0x3ED8616C#32
  | 10 => 0xBF000000#32
  | 11 => 0xBF7F069E#32
  | 12 => 0xBF248DBB#32
  | 13 => 0x3E8483EE#32
  | 14 => 0x3F708FB2#32
  | 15 => 0x3F51B3F3#32
  | 16 => 0x80000000#32
  | 17 => 0xBF51B3F3#32
  | 18 => 0xBF708FB2#32
  | 19 => 0xBE8483EE#32
  | 20 => 0x3F248DBB#32
  | 21 => 0x3F7F069E#32
  | 22 => 0x3F000000#32
  | 23 => 0xBED8616C#32
  | 24 => 0xBF7C1C5C#32
  | 25 => 0xBF3504F3#32
  | 26 => 0x3E31D0D4#32
  | 27 => 0x3F6803CA#32
  | 28 => 0x3F5DB3D7#32
  | 29 => 0x3DB27EB6#32
  | 30 => 0xBF441B7D#32
  | 31 => 0xBF7746EA#32
  | 32 => 0xBEAF1D44#32
  | 33 => 0x3F12D5E8#32
  | 34 => 0x3F800000#32
  | 35 => 0x3F12D5E8#32
  | 36 => 0xBEAF1D44#32
  | 37 => 0xBF7746EA#32
  | 38 => 0xBF441B7D#32
  | 39 => 0x3DB27EB6#32
  | 40 => 0x3F5DB3D7#32
  | 41 => 0x3F6803CA#32
  | 42 => 0x3E31D0D4#32
  | 43 => 0xBF3504F3#32
  | 44 => 0xBF7C1C5C#32
  | 45 => 0xBED8616C#32
  | 46 => 0x3F000000#32
  | 47 => 0x3F7F069E#32
  | 48 => 0x3F248DBB#32
  | 49 => 0xBE8483EE#32
  | 50 => 0xBF708FB2#32
  | 51 => 0xBF51B3F3#32
  | 52 => 0xA50D3132#32
  | 53 => 0x3F51B3F3#32
  | 54 => 0x3F708FB2#32
  | 55 => 0x3E8483EE#32
  | 56 => 0xBF248DBB#32
  | 57 => 0xBF7F069E#32
  | 58 => 0xBF000000#32
  | 59 => 0x3ED8616C#32
  | 60 => 0x3F7C1C5C#32
  | 61 => 0x3F3504F3#32
  | 62 => 0xBE31D0D4#32
  | 63 => 0xBF6803CA#32
  | 64 => 0xBF5DB3D7#32
  | 65 => 0xBDB27EB6#32
  | 66 => 0x3F441B7D#32
  | 67 => 0x3F7746EA#32
  | 68 => 0x3EAF1D44#32
  | 69 => 0xBF12D5E8#32
  | 70 => 0xBF800000#32
  | 71 => 0xBF12D5E8#32
  | 72 => 0x3EAF1D44#32
  | 73 => 0x3F7746EA#32
  | 74 => 0x3F441B7D#32
  | 75 => 0xBDB27EB6#32
  | 76 => 0xBF5DB3D7#32
  | 77 => 0xBF6803CA#32
  | 78 => 0xBE31D0D4#32
  | 79 => 0x3F3504F3#32
  | 80 => 0x3F7C1C5C#32
  | 81 => 0x3ED8616C#32
  | 82 => 0xBF000000#32
  | 83 => 0xBF7F069E#32
  | 84 => 0xBF248DBB#32
  | 85 => 0x3E8483EE#32
  | 86 => 0x3F708FB2#32
  | 87 => 0x3F51B3F3#32
  | 88 => 0x80000000#32
  | 89 => 0xBF51B3F3#32
  | 90 => 0xBF708FB2#32
  | 91 => 0xBE8483EE#32
  | 92 => 0x3F248DBB#32
  | 93 => 0x3F7F069E#32
  | 94 => 0x3F000000#32
  | 95 => 0xBED8616C#32
  | 96 => 0xBF7C1C5C#32
  | 97 => 0xBF3504F3#32
  | 98 => 0x3E31D0D4#32
  | 99 => 0x3F6803CA#32
  | 100 => 0x3F5DB3D7#32
  | 101 => 0x3DB27EB6#32
  | 102 => 0xBF441B7D#32
  | 103 => 0xBF7746EA#32
  | 104 => 0xBEAF1D44#32
  | 105 => 0x3F12D5E8#32
  | 106 => 0x3F800000#32
  | 107 => 0x3F12D5E8#32
  | 108 => 0xBEAF1D44#32
  | 109 => 0xBF7746EA#32
  | 110 => 0xBF441B7D#32
  | 111 => 0x3DB27EB6#32
  | 112 => 0x3F5DB3D7#32
  | 113 => 0x3F6803CA#32
  | 114 => 0x3E31D0D4#32
  | 115 => 0xBF3504F3#32
  | 116 => 0xBF7C1C5C#32
  | 117 => 0xBED8616C#32
  | 118 => 0x3F000000#32
  | 119 => 0x3F7F069E#32
  | 120 => 0x3F248DBB#32
  | 121 => 0xBE8483EE#32
  | 122 => 0xBF708FB2#32
  | 123 => 0xBF51B3F3#32
  | 124 => 0xA50D3132#32
  | 125 => 0x3F51B3F3#32
  | 126 => 0x3F708FB2#32
  | 127 => 0x3E8483EE#32
  | _ => 0#32

noncomputable abbrev lit1t0_101 (i : Nat) : BitVec 32 := match i % 128 with
  | 0 => 0xBF248DBB#32
  | 1 => 0xBF7F069E#32
  | 2 => 0xBF000000#32
  | 3 => 0x3ED8616C#32
  | 4 => 0x3F7C1C5C#32
  | 5 => 0x3F3504F3#32
  | 6 => 0xBE31D0D4#32
  | 7 => 0xBF6803CA#32
  | 8 => 0xBF5DB3D7#32
  | 9 => 0xBDB27EB6#32
  | 10 => 0x3F441B7D#32
  | 11 => 0x3F7746EA#32
  | 12 => 0x3EAF1D44#32
  | 13 => 0xBF12D5E8#32
  | 14 => 0xBF800000#32
  | 15 => 0xBF12D5E8#32
  | 16 => 0x3EAF1D44#32
  | 17 => 0x3F7746EA#32
  | 18 => 0x3F441B7D#32
  | 19 => 0xBDB27EB6#32
  | 20 => 0xBF5DB3D7#32
  | 21 => 0xBF6803CA#32
  | 22 => 0xBE31D0D4#32
  | 23 => 0x3F3504F3#32
  | 24 => 0x3F7C1C5C#32
  | 25 => 0x3ED8616C#32
  | 26 => 0xBF000000#32
  | 27 => 0xBF7F069E#32
  | 28 => 0xBF248DBB#32
  | 29 => 0x3E8483EE#32
  | 30 => 0x3F708FB2#32
  | 31 => 0x3F51B3F3#32
  | 32 => 0x80000000#32
  | 33 => 0xBF54DB31#32
  | 34 => 0xBF6C835E#32
  | 35 => 0xBE47C5C2#32
  | 36 => 0x3F3504F3#32
  | 37 => 0x3F7B14BE#32
  | 38 => 0x3EC3EF15#32
  | 39 => 0xBF0E39DA#32
  | 40 => 0xBF800000#32
  | 41 => 0xBF0E39DA#32
  | 42 => 0x3EC3EF15#32
  | 43 => 0x3F7B14BE#32
  | 44 => 0x3F3504F3#32
  | 45 => 0xBE47C5C2#32
  | 46 => 0xBF6C835E#32
  | 47 => 0xBF54DB31#32
  | 48 => 0xA50D3132#32
  | 49 => 0x3F54DB31#32
  | 50 => 0x3F6C835E#32
  | 51 => 0x3E47C5C2#32
  | 52 => 0xBF3504F3#32
  | 53 => 0xBF7B14BE#32
  | 54 => 0xBEC3EF15#32
  | 55 => 0x3F0E39DA#32
  | 56 => 0x3F800000#32
  | 57 => 0x3F0E39DA#32
  | 58 => 0xBEC3EF15#32
  | 59 => 0xBF7B14BE#32
  | 60 => 0xBF3504F3#32
  | 61 => 0x3E47C5C2#32
  | 62 => 0x3F6C835E#32
  | 63 => 0x3F54DB31#32
  | 64 => 0x80000000#32
  | 65 => 0xBF54DB31#32
  | 66 => 0xBF6C835E#32
  | 67 => 0xBE47C5C2#32
  | 68 => 0x3F3504F3#32
  | 69 => 0x3F7B14BE#32
  | 70 => 0x3EC3EF15#32
  | 71 => 0xBF0E39DA#32
  | 72 => 0xBF800000#32
  | 73 => 0xBF0E39DA#32
  | 74 => 0x3EC3EF15#32
  | 75 => 0x3F7B14BE#32
  | 76 => 0x3F3504F3#32
  | 77 => 0xBE47C5C2#32
  | 78 => 0xBF6C835E#32
  | 79 => 0xBF54DB31#32
  | 80 => 0xA50D3132#32
  | 81 => 0x3F54DB31#32
  | 82 => 0x3F6C835E#32
  | 83 => 0x3E47C5C2#32
  | 84 => 0xBF3504F3#32
  | 85 => 0xBF7B14BE#32
  | 86 => 0xBEC3EF15#32
  | 87 => 0x3F0E39DA#32
  | 88 => 0x3F800000#32
  | 89 => 0x3F0E39DA#32
  | 90 => 0xBEC3EF15#32
  | 91 => 0xBF7B14BE#32
  | 92 => 0xBF3504F3#32
  | 93 => 0x3E47C5C2#32
  | 94 => 0x3F6C835E#32
  | 95 => 0x3F54DB31#32
  | 96 => 0x80000000#32
  | 97 => 0xBF54DB31#32
  | 98 => 0xBF6C835E#32
  | 99 => 0xBE47C5C2#32
  | 100 => 0x3F3504F3#32
  | 101 => 0x3F7B14BE#32
  | 102 => 0x3EC3EF15#32
  | 103 => 0xBF0E39DA#32
  | 104 => 0xBF800000#32
  | 105 => 0xBF0E39DA#32
  | 106 => 0x3EC3EF15#32
  | 107 => 0x3F7B14BE#32
  | 108 => 0x3F3504F3#32
  | 109 => 0xBE47C5C2#32
  | 110 => 0xBF6C835E#32
  | 111 => 0xBF54DB31#32
  | 112 => 0xA50D3132#32
  | 113 => 0x3F54DB31#32
  | 114 => 0x3F6C835E#32
  | 115 => 0x3E47C5C2#32
  | 116 => 0xBF3504F3#32
  | 117 => 0xBF7B14BE#32
  | 118 => 0xBEC3EF15#32
  | 119 => 0x3F0E39DA#32
  | 120 => 0x3F800000#32
  | 121 => 0x3F0E39DA#32
  | 122 => 0xBEC3EF15#32
  | 123 => 0xBF7B14BE#32
  | 124 => 0xBF3504F3#32
  | 125 => 0x3E47C5C2#32
  | 126 => 0x3F6C835E#32
  | 127 => 0x3F54DB31#32
  | _ => 0#32

noncomputable abbrev lit1t0_102 (i : Nat) : BitVec 32 := match i % 128 with
  | 0 => 0x80000000#32
  | 1 => 0xBF54DB31#32
  | 2 => 0xBF6C835E#32
  | 3 => 0xBE47C5C2#32
  | 4 => 0x3F3504F3#32
  | 5 => 0x3F7B14BE#32
  | 6 => 0x3EC3EF15#32
  | 7 => 0xBF0E39DA#32
  | 8 => 0xBF800000#32
  | 9 => 0xBF0E39DA#32
  | 10 => 0x3EC3EF15#32
  | 11 => 0x3F7B14BE#32
  | 12 => 0x3F3504F3#32
  | 13 => 0xBE47C5C2#32
  | 14 => 0xBF6C835E#32
  | 15 => 0xBF54DB31#32
  | 16 => 0xA50D3132#32
  | 17 => 0x3F54DB31#32
  | 18 => 0x3F6C835E#32
  | 19 => 0x3E47C5C2#32
  | 20 => 0xBF3504F3#32
  | 21 => 0xBF7B14BE#32
  | 22 => 0xBEC3EF15#32
  | 23 => 0x3F0E39DA#32
  | 24 => 0x3F800000#32
  | 25 => 0x3F0E39DA#32
  | 26 => 0xBEC3EF15#32
  | 27 => 0xBF7B14BE#32
  | 28 => 0xBF3504F3#32
  | 29 => 0x3E47C5C2#32
  | 30 => 0x3F6C835E#32
  | 31 => 0x3F54DB31#32
  | 32 => 0x80000000#32
  | 33 => 0xBF54DB31#32
  | 34 => 0xBF6C835E#32
  | 35 => 0xBE47C5C2#32
  | 36 => 0x3F3504F3#32
  | 37 => 0x3F7B14BE#32
  | 38 => 0x3EC3EF15#32
  | 39 => 0xBF0E39DA#32
  | 40 => 0xBF800000#32
  | 41 => 0xBF0E39DA#32
  | 42 => 0x3EC3EF15#32
  | 43 => 0x3F7B14BE#32
  | 44 => 0x3F3504F3#32
  | 45 => 0xBE47C5C2#32
  | 46 => 0xBF6C835E#32
  | 47 => 0xBF54DB31#32
  | 48 => 0xA50D3132#32
  | 49 => 0x3F54DB31#32
  | 50 => 0x3F6C835E#32
  | 51 => 0x3E47C5C2#32
  | 52 => 0xBF3504F3#32
  | 53 => 0xBF7B14BE#32
  | 54 => 0xBEC3EF15#32
  | 55 => 0x3F0E39DA#32
  | 56 => 0x3F800000#32
  | 57 => 0x3F0E39DA#32
  | 58 => 0xBEC3EF15#32
  | 59 => 0xBF7B14BE#32
  | 60 => 0xBF3504F3#32
  | 61 => 0x3E47C5C2#32
  | 62 => 0x3F6C835E#32
  | 63 => 0x3F54DB31#32
  | 64 => 0x80000000#32
  | 65 => 0xBF54DB31#32
  | 66 => 0xBF6C835E#32
  | 67 => 0xBE47C5C2#32
  | 68 => 0x3F3504F3#32
  | 69 => 0x3F7B14BE#32
  | 70 => 0x3EC3EF15#32
  | 71 => 0xBF0E39DA#32
  | 72 => 0xBF800000#32
  | 73 => 0xBF0E39DA#32
  | 74 => 0x3EC3EF15#32
  | 75 => 0x3F7B14BE#32
  | 76 => 0x3F3504F3#32
  | 77 => 0xBE47C5C2#32
  | 78 => 0xBF6C835E#32
  | 79 => 0xBF54DB31#32
  | 80 => 0xA50D3132#32
  | 81 => 0x3F54DB31#32
  | 82 => 0x3F6C835E#32
  | 83 => 0x3E47C5C2#32
  | 84 => 0xBF3504F3#32
  | 85 => 0xBF7B14BE#32
  | 86 => 0xBEC3EF15#32
  | 87 => 0x3F0E39DA#32
  | 88 => 0x3F800000#32
  | 89 => 0x3F0E39DA#32
  | 90 => 0xBEC3EF15#32
  | 91 => 0xBF7B14BE#32
  | 92 => 0xBF3504F3#32
  | 93 => 0x3E47C5C2#32
  | 94 => 0x3F6C835E#32
  | 95 => 0x3F54DB31#32
  | 96 => 0x80000000#32
  | 97 => 0xBF54DB31#32
  | 98 => 0xBF6C835E#32
  | 99 => 0xBE47C5C2#32
  | 100 => 0x3F3504F3#32
  | 101 => 0x3F7B14BE#32
  | 102 => 0x3EC3EF15#32
  | 103 => 0xBF0E39DA#32
  | 104 => 0xBF800000#32
  | 105 => 0xBF0E39DA#32
  | 106 => 0x3EC3EF15#32
  | 107 => 0x3F7B14BE#32
  | 108 => 0x3F3504F3#32
  | 109 => 0xBE47C5C2#32
  | 110 => 0xBF6C835E#32
  | 111 => 0xBF54DB31#32
  | 112 => 0xA50D3132#32
  | 113 => 0x3F54DB31#32
  | 114 => 0x3F6C835E#32
  | 115 => 0x3E47C5C2#32
  | 116 => 0xBF3504F3#32
  | 117 => 0xBF7B14BE#32
  | 118 => 0xBEC3EF15#32
  | 119 => 0x3F0E39DA#32
  | 120 => 0x3F800000#32
  | 121 => 0x3F0E39DA#32
  | 122 => 0xBEC3EF15#32
  | 123 => 0xBF7B14BE#32
  | 124 => 0xBF3504F3#32
  | 125 => 0x3E47C5C2#32
  | 126 => 0x3F6C835E#32
  | 127 => 0x3F54DB31#32
  | _ => 0#32

noncomputable abbrev lit1t0_103 (i : Nat) : BitVec 32 := match i % 128 with
  | 0 => 0x80000000#32
  | 1 => 0xBF54DB31#32
  | 2 => 0xBF6C835E#32
  | 3 => 0xBE47C5C2#32
  | 4 => 0x3F3504F3#32
  | 5 => 0x3F7B14BE#32
  | 6 => 0x3EC3EF15#32
  | 7 => 0xBF0E39DA#32
  | 8 => 0xBF800000#32
  | 9 => 0xBF0E39DA#32
  | 10 => 0x3EC3EF15#32
  | 11 => 0x3F7B14BE#32
  | 12 => 0x3F3504F3#32
  | 13 => 0xBE47C5C2#32
  | 14 => 0xBF6C835E#32
  | 15 => 0xBF54DB31#32
  | 16 => 0xA50D3132#32
  | 17 => 0x3F54DB31#32
  | 18 => 0x3F6C835E#32
  | 19 => 0x3E47C5C2#32
  | 20 => 0xBF3504F3#32
  | 21 => 0xBF7B14BE#32
  | 22 => 0xBEC3EF15#32
  | 23 => 0x3F0E39DA#32
  | 24 => 0x3F800000#32
  | 25 => 0x3F0E39DA#32
  | 26 => 0xBEC3EF15#32
  | 27 => 0xBF7B14BE#32
  | 28 => 0xBF3504F3#32
  | 29 => 0x3E47C5C2#32
  | 30 => 0x3F6C835E#32
  | 31 => 0x3F54DB31#32
  | 32 => 0x80000000#32
  | 33 => 0xBF54DB31#32
  | 34 => 0xBF6C835E#32
  | 35 => 0xBE47C5C2#32
  | 36 => 0x3F3504F3#32
  | 37 => 0x3F7B14BE#32
  | 38 => 0x3EC3EF15#32
  | 39 => 0xBF0E39DA#32
  | 40 => 0xBF800000#32
  | 41 => 0xBF0E39DA#32
  | 42 => 0x3EC3EF15#32
  | 43 => 0x3F7B14BE#32
  | 44 => 0x3F3504F3#32
  | 45 => 0xBE47C5C2#32
  | 46 => 0xBF6C835E#32
  | 47 => 0xBF54DB31#32
  | 48 => 0xA50D3132#32
  | 49 => 0x3F54DB31#32
  | 50 => 0x3F6C835E#32
  | 51 => 0x3E47C5C2#32
  | 52 => 0xBF3504F3#32
  | 53 => 0xBF7B14BE#32
  | 54 => 0xBEC3EF15#32
  | 55 => 0x3F0E39DA#32
  | 56 => 0x3F800000#32
  | 57 => 0x3F0E39DA#32
  | 58 => 0xBEC3EF15#32
  | 59 => 0xBF7B14BE#32
  | 60 => 0xBF3504F3#32
  | 61 => 0x3E47C5C2#32
  | 62 => 0x3F6C835E#32
  | 63 => 0x3F54DB31#32
  | 64 => 0x80000000#32
  | 65 => 0xBF57E880#32
  | 66 => 0xBF6803CA#32
  | 67 => 0xBE05A8A8#32
  | 68 => 0x3F441B7D#32
  | 69 => 0x3F7426CB#32
  | 70 => 0x3E8483EE#32
  | 71 => 0xBF2CF37B#32
  | 72 => 0xBF7C1C5C#32
  | 73 => 0xBEC3EF15#32
  | 74 => 0x3F12D5E8#32
  | 75 => 0x3F7FC1A0#32
  | 76 => 0x3F000000#32
  | 77 => 0xBEEC6A50#32
  | 78 => 0xBF7F069E#32
  | 79 => 0xBF1BD7CA#32
  | 80 => 0x3EAF1D44#32
  | 81 => 0x3F79EE89#32
  | 82 => 0x3F3504F3#32
  | 83 => 0xBE5DA259#32
  | 84 => 0xBF708FB2#32
  | 85 => 0xBF4B1934#32
  | 86 => 0x3DB27EB6#32
  | 87 => 0x3F631324#32
  | 88 => 0x3F5DB3D7#32
  | 89 => 0x3D32AA3E#32
  | 90 => 0xBF51B3F3#32
  | 91 => 0xBF6C835E#32
  | 92 => 0xBE31D0D4#32
  | 93 => 0x3F3CBE35#32
  | 94 => 0x3F7746EA#32
  | 95 => 0x3E99F61C#32
  | 96 => 0xBF248DBB#32
  | 97 => 0xBF7DCF55#32
  | 98 => 0xBED8616C#32
  | 99 => 0x3F098C78#32
  | 100 => 0x3F800000#32
  | 101 => 0x3F098C78#32
  | 102 => 0xBED8616C#32
  | 103 => 0xBF7DCF55#32
  | 104 => 0xBF248DBB#32
  | 105 => 0x3E99F61C#32
  | 106 => 0x3F7746EA#32
  | 107 => 0x3F3CBE35#32
  | 108 => 0xBE31D0D4#32
  | 109 => 0xBF6C835E#32
  | 110 => 0xBF51B3F3#32
  | 111 => 0x3D32AA3E#32
  | 112 => 0x3F5DB3D7#32
  | 113 => 0x3F631324#32
  | 114 => 0x3DB27EB6#32
  | 115 => 0xBF4B1934#32
  | 116 => 0xBF708FB2#32
  | 117 => 0xBE5DA259#32
  | 118 => 0x3F3504F3#32
  | 119 => 0x3F79EE89#32
  | 120 => 0x3EAF1D44#32
  | 121 => 0xBF1BD7CA#32
  | 122 => 0xBF7F069E#32
  | 123 => 0xBEEC6A50#32
  | 124 => 0x3F000000#32
  | 125 => 0x3F7FC1A0#32
  | 126 => 0x3F12D5E8#32
  | 127 => 0xBEC3EF15#32
  | _ => 0#32

noncomputable abbrev lit1t0_104 (i : Nat) : BitVec 32 := match i % 128 with
  | 0 => 0xBF7C1C5C#32
  | 1 => 0xBF2CF37B#32
  | 2 => 0x3E8483EE#32
  | 3 => 0x3F7426CB#32
  | 4 => 0x3F441B7D#32
  | 5 => 0xBE05A8A8#32
  | 6 => 0xBF6803CA#32
  | 7 => 0xBF57E880#32
  | 8 => 0xA50D3132#32
  | 9 => 0x3F57E880#32
  | 10 => 0x3F6803CA#32
  | 11 => 0x3E05A8A8#32
  | 12 => 0xBF441B7D#32
  | 13 => 0xBF7426CB#32
  | 14 => 0xBE8483EE#32
  | 15 => 0x3F2CF37B#32
  | 16 => 0x3F7C1C5C#32
  | 17 => 0x3EC3EF15#32
  | 18 => 0xBF12D5E8#32
  | 19 => 0xBF7FC1A0#32
  | 20 => 0xBF000000#32
  | 21 => 0x3EEC6A50#32
  | 22 => 0x3F7F069E#32
  | 23 => 0x3F1BD7CA#32
  | 24 => 0xBEAF1D44#32
  | 25 => 0xBF79EE89#32
  | 26 => 0xBF3504F3#32
  | 27 => 0x3E5DA259#32
  | 28 => 0x3F708FB2#32
  | 29 => 0x3F4B1934#32
  | 30 => 0xBDB27EB6#32
  | 31 => 0xBF631324#32
  | 32 => 0xBF5DB3D7#32
  | 33 => 0xBD32AA3E#32
  | 34 => 0x3F51B3F3#32
  | 35 => 0x3F6C835E#32
  | 36 => 0x3E31D0D4#32
  | 37 => 0xBF3CBE35#32
  | 38 => 0xBF7746EA#32
  | 39 => 0xBE99F61C#32
  | 40 => 0x3F248DBB#32
  | 41 => 0x3F7DCF55#32
  | 42 => 0x3ED8616C#32
  | 43 => 0xBF098C78#32
  | 44 => 0xBF800000#32
  | 45 => 0xBF098C78#32
  | 46 => 0x3ED8616C#32
  | 47 => 0x3F7DCF55#32
  | 48 => 0x3F248DBB#32
  | 49 => 0xBE99F61C#32
  | 50 => 0xBF7746EA#32
  | 51 => 0xBF3CBE35#32
  | 52 => 0x3E31D0D4#32
  | 53 => 0x3F6C835E#32
  | 54 => 0x3F51B3F3#32
  | 55 => 0xBD32AA3E#32
  | 56 => 0xBF5DB3D7#32
  | 57 => 0xBF631324#32
  | 58 => 0xBDB27EB6#32
  | 59 => 0x3F4B1934#32
  | 60 => 0x3F708FB2#32
  | 61 => 0x3E5DA259#32
  | 62 => 0xBF3504F3#32
  | 63 => 0xBF79EE89#32
  | 64 => 0xBEAF1D44#32
  | 65 => 0x3F1BD7CA#32
  | 66 => 0x3F7F069E#32
  | 67 => 0x3EEC6A50#32
  | 68 => 0xBF000000#32
  | 69 => 0xBF7FC1A0#32
  | 70 => 0xBF12D5E8#32
  | 71 => 0x3EC3EF15#32
  | 72 => 0x3F7C1C5C#32
  | 73 => 0x3F2CF37B#32
  | 74 => 0xBE8483EE#32
  | 75 => 0xBF7426CB#32
  | 76 => 0xBF441B7D#32
  | 77 => 0x3E05A8A8#32
  | 78 => 0x3F6803CA#32
  | 79 => 0x3F57E880#32
  | 80 => 0x80000000#32
  | 81 => 0xBF57E880#32
  | 82 => 0xBF6803CA#32
  | 83 => 0xBE05A8A8#32
  | 84 => 0x3F441B7D#32
  | 85 => 0x3F7426CB#32
  | 86 => 0x3E8483EE#32
  | 87 => 0xBF2CF37B#32
  | 88 => 0xBF7C1C5C#32
  | 89 => 0xBEC3EF15#32
  | 90 => 0x3F12D5E8#32
  | 91 => 0x3F7FC1A0#32
  | 92 => 0x3F000000#32
  | 93 => 0xBEEC6A50#32
  | 94 => 0xBF7F069E#32
  | 95 => 0xBF1BD7CA#32
  | 96 => 0x3EAF1D44#32
  | 97 => 0x3F79EE89#32
  | 98 => 0x3F3504F3#32
  | 99 => 0xBE5DA259#32
  | 100 => 0xBF708FB2#32
  | 101 => 0xBF4B1934#32
  | 102 => 0x3DB27EB6#32
  | 103 => 0x3F631324#32
  | 104 => 0x3F5DB3D7#32
  | 105 => 0x3D32AA3E#32
  | 106 => 0xBF51B3F3#32
  | 107 => 0xBF6C835E#32
  | 108 => 0xBE31D0D4#32
  | 109 => 0x3F3CBE35#32
  | 110 => 0x3F7746EA#32
  | 111 => 0x3E99F61C#32
  | 112 => 0xBF248DBB#32
  | 113 => 0xBF7DCF55#32
  | 114 => 0xBED8616C#32
  | 115 => 0x3F098C78#32
  | 116 => 0x3F800000#32
  | 117 => 0x3F098C78#32
  | 118 => 0xBED8616C#32
  | 119 => 0xBF7DCF55#32
  | 120 => 0xBF248DBB#32
  | 121 => 0x3E99F61C#32
  | 122 => 0x3F7746EA#32
  | 123 => 0x3F3CBE35#32
  | 124 => 0xBE31D0D4#32
  | 125 => 0xBF6C835E#32
  | 126 => 0xBF51B3F3#32
  | 127 => 0x3D32AA3E#32
  | _ => 0#32

noncomputable abbrev lit1t0_105 (i : Nat) : BitVec 32 := match i % 128 with
  | 0 => 0x3F5DB3D7#32
  | 1 => 0x3F631324#32
  | 2 => 0x3DB27EB6#32
  | 3 => 0xBF4B1934#32
  | 4 => 0xBF708FB2#32
  | 5 => 0xBE5DA259#32
  | 6 => 0x3F3504F3#32
  | 7 => 0x3F79EE89#32
  | 8 => 0x3EAF1D44#32
  | 9 => 0xBF1BD7CA#32
  | 10 => 0xBF7F069E#32
  | 11 => 0xBEEC6A50#32
  | 12 => 0x3F000000#32
  | 13 => 0x3F7FC1A0#32
  | 14 => 0x3F12D5E8#32
  | 15 => 0xBEC3EF15#32
  | 16 => 0xBF7C1C5C#32
  | 17 => 0xBF2CF37B#32
  | 18 => 0x3E8483EE#32
  | 19 => 0x3F7426CB#32
  | 20 => 0x3F441B7D#32
  | 21 => 0xBE05A8A8#32
  | 22 => 0xBF6803CA#32
  | 23 => 0xBF57E880#32
  | 24 => 0xA50D3132#32
  | 25 => 0x3F57E880#32
  | 26 => 0x3F6803CA#32
  | 27 => 0x3E05A8A8#32
  | 28 => 0xBF441B7D#32
  | 29 => 0xBF7426CB#32
  | 30 => 0xBE8483EE#32
  | 31 => 0x3F2CF37B#32
  | 32 => 0x3F7C1C5C#32
  | 33 => 0x3EC3EF15#32
  | 34 => 0xBF12D5E8#32
  | 35 => 0xBF7FC1A0#32
  | 36 => 0xBF000000#32
  | 37 => 0x3EEC6A50#32
  | 38 => 0x3F7F069E#32
  | 39 => 0x3F1BD7CA#32
  | 40 => 0xBEAF1D44#32
  | 41 => 0xBF79EE89#32
  | 42 => 0xBF3504F3#32
  | 43 => 0x3E5DA259#32
  | 44 => 0x3F708FB2#32
  | 45 => 0x3F4B1934#32
  | 46 => 0xBDB27EB6#32
  | 47 => 0xBF631324#32
  | 48 => 0xBF5DB3D7#32
  | 49 => 0xBD32AA3E#32
  | 50 => 0x3F51B3F3#32
  | 51 => 0x3F6C835E#32
  | 52 => 0x3E31D0D4#32
  | 53 => 0xBF3CBE35#32
  | 54 => 0xBF7746EA#32
  | 55 => 0xBE99F61C#32
  | 56 => 0x3F248DBB#32
  | 57 => 0x3F7DCF55#32
  | 58 => 0x3ED8616C#32
  | 59 => 0xBF098C78#32
  | 60 => 0xBF800000#32
  | 61 => 0xBF098C78#32
  | 62 => 0x3ED8616C#32
  | 63 => 0x3F7DCF55#32
  | 64 => 0x3F248DBB#32
  | 65 => 0xBE99F61C#32
  | 66 => 0xBF7746EA#32
  | 67 => 0xBF3CBE35#32
  | 68 => 0x3E31D0D4#32
  | 69 => 0x3F6C835E#32
  | 70 => 0x3F51B3F3#32
  | 71 => 0xBD32AA3E#32
  | 72 => 0xBF5DB3D7#32
  | 73 => 0xBF631324#32
  | 74 => 0xBDB27EB6#32
  | 75 => 0x3F4B1934#32
  | 76 => 0x3F708FB2#32
  | 77 => 0x3E5DA259#32
  | 78 => 0xBF3504F3#32
  | 79 => 0xBF79EE89#32
  | 80 => 0xBEAF1D44#32
  | 81 => 0x3F1BD7CA#32
  | 82 => 0x3F7F069E#32
  | 83 => 0x3EEC6A50#32
  | 84 => 0xBF000000#32
  | 85 => 0xBF7FC1A0#32
  | 86 => 0xBF12D5E8#32
  | 87 => 0x3EC3EF15#32
  | 88 => 0x3F7C1C5C#32
  | 89 => 0x3F2CF37B#32
  | 90 => 0xBE8483EE#32
  | 91 => 0xBF7426CB#32
  | 92 => 0xBF441B7D#32
  | 93 => 0x3E05A8A8#32
  | 94 => 0x3F6803CA#32
  | 95 => 0x3F57E880#32
  | 96 => 0x80000000#32
  | 97 => 0xBF5ADB81#32
  | 98 => 0xBF631324#32
  | 99 => 0xBD85F213#32
  | 100 => 0x3F51B3F3#32
  | 101 => 0x3F6A51DA#32
  | 102 => 0x3E05A8A8#32
  | 103 => 0xBF47A682#32
  | 104 => 0xBF708FB2#32
  | 105 => 0xBE47C5C2#32
  | 106 => 0x3F3CBE35#32
  | 107 => 0x3F75C5D4#32
  | 108 => 0x3E8483EE#32
  | 109 => 0xBF310700#32
  | 110 => 0xBF79EE89#32
  | 111 => 0xBEA493B7#32
  | 112 => 0x3F248DBB#32
  | 113 => 0x3F7D0543#32
  | 114 => 0x3EC3EF15#32
  | 115 => 0xBF176012#32
  | 116 => 0xBF7F069E#32
  | 117 => 0xBEE273AA#32
  | 118 => 0x3F098C78#32
  | 119 => 0x3F7FF067#32
  | 120 => 0x3F000000#32
  | 121 => 0xBEF64429#32
  | 122 => 0xBF7FC1A0#32
  | 123 => 0xBF0E39DA#32
  | 124 => 0x3ED8616C#32
  | 125 => 0x3F7E7A7A#32
  | 126 => 0x3F1BD7CA#32
  | 127 => 0xBEB9917B#32
  | _ => 0#32

noncomputable abbrev lit1t0_106 (i : Nat) : BitVec 32 := match i % 128 with
  | 0 => 0xBF7C1C5C#32
  | 1 => 0xBF28CAE3#32
  | 2 => 0x3E99F61C#32
  | 3 => 0x3F78A9E0#32
  | 4 => 0x3F3504F3#32
  | 5 => 0xBE7363EE#32
  | 6 => 0xBF7426CB#32
  | 7 => 0xBF407893#32
  | 8 => 0x3E31D0D4#32
  | 9 => 0x3F6E9811#32
  | 10 => 0x3F4B1934#32
  | 11 => 0xBDDEF599#32
  | 12 => 0xBF6803CA#32
  | 13 => 0xBF54DB31#32
  | 14 => 0x3D32AA3E#32
  | 15 => 0x3F60712A#32
  | 16 => 0x3F5DB3D7#32
  | 17 => 0x3CB2B521#32
  | 18 => 0xBF57E880#32
  | 19 => 0xBF659974#32
  | 20 => 0xBDB27EB6#32
  | 21 => 0x3F4E7327#32
  | 22 => 0x3F6C835E#32
  | 23 => 0x3E1BC63C#32
  | 24 => 0xBF441B7D#32
  | 25 => 0xBF726A03#32
  | 26 => 0xBE5DA259#32
  | 27 => 0x3F38ECD8#32
  | 28 => 0x3F7746EA#32
  | 29 => 0x3E8F45C0#32
  | 30 => 0xBF2CF37B#32
  | 31 => 0xBF7B14BE#32
  | 32 => 0xBEAF1D44#32
  | 33 => 0x3F203C85#32
  | 34 => 0x3F7DCF55#32
  | 35 => 0x3ECE34D0#32
  | 36 => 0xBF12D5E8#32
  | 37 => 0xBF7F73AF#32
  | 38 => 0xBEEC6A50#32
  | 39 => 0x3F04CE53#32
  | 40 => 0x3F800000#32
  | 41 => 0x3F04CE53#32
  | 42 => 0xBEEC6A50#32
  | 43 => 0xBF7F73AF#32
  | 44 => 0xBF12D5E8#32
  | 45 => 0x3ECE34D0#32
  | 46 => 0x3F7DCF55#32
  | 47 => 0x3F203C85#32
  | 48 => 0xBEAF1D44#32
  | 49 => 0xBF7B14BE#32
  | 50 => 0xBF2CF37B#32
  | 51 => 0x3E8F45C0#32
  | 52 => 0x3F7746EA#32
  | 53 => 0x3F38ECD8#32
  | 54 => 0xBE5DA259#32
  | 55 => 0xBF726A03#32
  | 56 => 0xBF441B7D#32
  | 57 => 0x3E1BC63C#32
  | 58 => 0x3F6C835E#32
  | 59 => 0x3F4E7327#32
  | 60 => 0xBDB27EB6#32
  | 61 => 0xBF659974#32
  | 62 => 0xBF57E880#32
  | 63 => 0x3CB2B521#32
  | 64 => 0x3F5DB3D7#32
  | 65 => 0x3F60712A#32
  | 66 => 0x3D32AA3E#32
  | 67 => 0xBF54DB31#32
  | 68 => 0xBF6803CA#32
  | 69 => 0xBDDEF599#32
  | 70 => 0x3F4B1934#32
  | 71 => 0x3F6E9811#32
  | 72 => 0x3E31D0D4#32
  | 73 => 0xBF407893#32
  | 74 => 0xBF7426CB#32
  | 75 => 0xBE7363EE#32
  | 76 => 0x3F3504F3#32
  | 77 => 0x3F78A9E0#32
  | 78 => 0x3E99F61C#32
  | 79 => 0xBF28CAE3#32
  | 80 => 0xBF7C1C5C#32
  | 81 => 0xBEB9917B#32
  | 82 => 0x3F1BD7CA#32
  | 83 => 0x3F7E7A7A#32
  | 84 => 0x3ED8616C#32
  | 85 => 0xBF0E39DA#32
  | 86 => 0xBF7FC1A0#32
  | 87 => 0xBEF64429#32
  | 88 => 0x3F000000#32
  | 89 => 0x3F7FF067#32
  | 90 => 0x3F098C78#32
  | 91 => 0xBEE273AA#32
  | 92 => 0xBF7F069E#32
  | 93 => 0xBF176012#32
  | 94 => 0x3EC3EF15#32
  | 95 => 0x3F7D0543#32
  | 96 => 0x3F248DBB#32
  | 97 => 0xBEA493B7#32
  | 98 => 0xBF79EE89#32
  | 99 => 0xBF310700#32
  | 100 => 0x3E8483EE#32
  | 101 => 0x3F75C5D4#32
  | 102 => 0x3F3CBE35#32
  | 103 => 0xBE47C5C2#32
  | 104 => 0xBF708FB2#32
  | 105 => 0xBF47A682#32
  | 106 => 0x3E05A8A8#32
  | 107 => 0x3F6A51DA#32
  | 108 => 0x3F51B3F3#32
  | 109 => 0xBD85F213#32
  | 110 => 0xBF631324#32
  | 111 => 0xBF5ADB81#32
  | 112 => 0xA50D3132#32
  | 113 => 0x3F5ADB81#32
  | 114 => 0x3F631324#32
  | 115 => 0x3D85F213#32
  | 116 => 0xBF51B3F3#32
  | 117 => 0xBF6A51DA#32
  | 118 => 0xBE05A8A8#32
  | 119 => 0x3F47A682#32
  | 120 => 0x3F708FB2#32
  | 121 => 0x3E47C5C2#32
  | 122 => 0xBF3CBE35#32
  | 123 => 0xBF75C5D4#32
  | 124 => 0xBE8483EE#32
  | 125 => 0x3F310700#32
  | 126 => 0x3F79EE89#32
  | 127 => 0x3EA493B7#32
  | _ => 0#32

noncomputable abbrev lit1t0_107 (i : Nat) : BitVec 32 := match i % 128 with
  | 0 => 0xBF248DBB#32
  | 1 => 0xBF7D0543#32
  | 2 => 0xBEC3EF15#32
  | 3 => 0x3F176012#32
  | 4 => 0x3F7F069E#32
  | 5 => 0x3EE273AA#32
  | 6 => 0xBF098C78#32
  | 7 => 0xBF7FF067#32
  | 8 => 0xBF000000#32
  | 9 => 0x3EF64429#32
  | 10 => 0x3F7FC1A0#32
  | 11 => 0x3F0E39DA#32
  | 12 => 0xBED8616C#32
  | 13 => 0xBF7E7A7A#32
  | 14 => 0xBF1BD7CA#32
  | 15 => 0x3EB9917B#32
  | 16 => 0x3F7C1C5C#32
  | 17 => 0x3F28CAE3#32
  | 18 => 0xBE99F61C#32
  | 19 => 0xBF78A9E0#32
  | 20 => 0xBF3504F3#32
  | 21 => 0x3E7363EE#32
  | 22 => 0x3F7426CB#32
  | 23 => 0x3F407893#32
  | 24 => 0xBE31D0D4#32
  | 25 => 0xBF6E9811#32
  | 26 => 0xBF4B1934#32
  | 27 => 0x3DDEF599#32
  | 28 => 0x3F6803CA#32
  | 29 => 0x3F54DB31#32
  | 30 => 0xBD32AA3E#32
  | 31 => 0xBF60712A#32
  | 32 => 0xBF5DB3D7#32
  | 33 => 0xBCB2B521#32
  | 34 => 0x3F57E880#32
  | 35 => 0x3F659974#32
  | 36 => 0x3DB27EB6#32
  | 37 => 0xBF4E7327#32
  | 38 => 0xBF6C835E#32
  | 39 => 0xBE1BC63C#32
  | 40 => 0x3F441B7D#32
  | 41 => 0x3F726A03#32
  | 42 => 0x3E5DA259#32
  | 43 => 0xBF38ECD8#32
  | 44 => 0xBF7746EA#32
  | 45 => 0xBE8F45C0#32
  | 46 => 0x3F2CF37B#32
  | 47 => 0x3F7B14BE#32
  | 48 => 0x3EAF1D44#32
  | 49 => 0xBF203C85#32
  | 50 => 0xBF7DCF55#32
  | 51 => 0xBECE34D0#32
  | 52 => 0x3F12D5E8#32
  | 53 => 0x3F7F73AF#32
  | 54 => 0x3EEC6A50#32
  | 55 => 0xBF04CE53#32
  | 56 => 0xBF800000#32
  | 57 => 0xBF04CE53#32
  | 58 => 0x3EEC6A50#32
  | 59 => 0x3F7F73AF#32
  | 60 => 0x3F12D5E8#32
  | 61 => 0xBECE34D0#32
  | 62 => 0xBF7DCF55#32
  | 63 => 0xBF203C85#32
  | 64 => 0x3EAF1D44#32
  | 65 => 0x3F7B14BE#32
  | 66 => 0x3F2CF37B#32
  | 67 => 0xBE8F45C0#32
  | 68 => 0xBF7746EA#32
  | 69 => 0xBF38ECD8#32
  | 70 => 0x3E5DA259#32
  | 71 => 0x3F726A03#32
  | 72 => 0x3F441B7D#32
  | 73 => 0xBE1BC63C#32
  | 74 => 0xBF6C835E#32
  | 75 => 0xBF4E7327#32
  | 76 => 0x3DB27EB6#32
  | 77 => 0x3F659974#32
  | 78 => 0x3F57E880#32
  | 79 => 0xBCB2B521#32
  | 80 => 0xBF5DB3D7#32
  | 81 => 0xBF60712A#32
  | 82 => 0xBD32AA3E#32
  | 83 => 0x3F54DB31#32
  | 84 => 0x3F6803CA#32
  | 85 => 0x3DDEF599#32
  | 86 => 0xBF4B1934#32
  | 87 => 0xBF6E9811#32
  | 88 => 0xBE31D0D4#32
  | 89 => 0x3F407893#32
  | 90 => 0x3F7426CB#32
  | 91 => 0x3E7363EE#32
  | 92 => 0xBF3504F3#32
  | 93 => 0xBF78A9E0#32
  | 94 => 0xBE99F61C#32
  | 95 => 0x3F28CAE3#32
  | 96 => 0x3F7C1C5C#32
  | 97 => 0x3EB9917B#32
  | 98 => 0xBF1BD7CA#32
  | 99 => 0xBF7E7A7A#32
  | 100 => 0xBED8616C#32
  | 101 => 0x3F0E39DA#32
  | 102 => 0x3F7FC1A0#32
  | 103 => 0x3EF64429#32
  | 104 => 0xBF000000#32
  | 105 => 0xBF7FF067#32
  | 106 => 0xBF098C78#32
  | 107 => 0x3EE273AA#32
  | 108 => 0x3F7F069E#32
  | 109 => 0x3F176012#32
  | 110 => 0xBEC3EF15#32
  | 111 => 0xBF7D0543#32
  | 112 => 0xBF248DBB#32
  | 113 => 0x3EA493B7#32
  | 114 => 0x3F79EE89#32
  | 115 => 0x3F310700#32
  | 116 => 0xBE8483EE#32
  | 117 => 0xBF75C5D4#32
  | 118 => 0xBF3CBE35#32
  | 119 => 0x3E47C5C2#32
  | 120 => 0x3F708FB2#32
  | 121 => 0x3F47A682#32
  | 122 => 0xBE05A8A8#32
  | 123 => 0xBF6A51DA#32
  | 124 => 0xBF51B3F3#32
  | 125 => 0x3D85F213#32
  | 126 => 0x3F631324#32
  | 127 => 0x3F5ADB81#32
  | _ => 0#32

noncomputable abbrev lit1t0_108 (i : Nat) : BitVec 32 := match i % 128 with
  | 0 => 0x80000000#32
  | 1 => 0xBF5DB3D7#32
  | 2 => 0xBF5DB3D7#32
  | 3 => 0xA50D3132#32
  | 4 => 0x3F5DB3D7#32
  | 5 => 0x3F5DB3D7#32
  | 6 => 0x80000000#32
  | 7 => 0xBF5DB3D7#32
  | 8 => 0xBF5DB3D7#32
  | 9 => 0xA50D3132#32
  | 10 => 0x3F5DB3D7#32
  | 11 => 0x3F5DB3D7#32
  | 12 => 0x80000000#32
  | 13 => 0xBF5DB3D7#32
  | 14 => 0xBF5DB3D7#32
  | 15 => 0xA50D3132#32
  | 16 => 0x3F5DB3D7#32
  | 17 => 0x3F5DB3D7#32
  | 18 => 0x80000000#32
  | 19 => 0xBF5DB3D7#32
  | 20 => 0xBF5DB3D7#32
  | 21 => 0xA50D3132#32
  | 22 => 0x3F5DB3D7#32
  | 23 => 0x3F5DB3D7#32
  | 24 => 0x80000000#32
  | 25 => 0xBF5DB3D7#32
  | 26 => 0xBF5DB3D7#32
  | 27 => 0xA50D3132#32
  | 28 => 0x3F5DB3D7#32
  | 29 => 0x3F5DB3D7#32
  | 30 => 0x80000000#32
  | 31 => 0xBF5DB3D7#32
  | 32 => 0xBF5DB3D7#32
  | 33 => 0xA50D3132#32
  | 34 => 0x3F5DB3D7#32
  | 35 => 0x3F5DB3D7#32
  | 36 => 0x80000000#32
  | 37 => 0xBF5DB3D7#32
  | 38 => 0xBF5DB3D7#32
  | 39 => 0xA50D3132#32
  | 40 => 0x3F5DB3D7#32
  | 41 => 0x3F5DB3D7#32
  | 42 => 0x80000000#32
  | 43 => 0xBF5DB3D7#32
  | 44 => 0xBF5DB3D7#32
  | 45 => 0xA50D3132#32
  | 46 => 0x3F5DB3D7#32
  | 47 => 0x3F5DB3D7#32
  | 48 => 0x80000000#32
  | 49 => 0xBF5DB3D7#32
  | 50 => 0xBF5DB3D7#32
  | 51 => 0xA50D3132#32
  | 52 => 0x3F5DB3D7#32
  | 53 => 0x3F5DB3D7#32
  | 54 => 0x80000000#32
  | 55 => 0xBF5DB3D7#32
  | 56 => 0xBF5DB3D7#32
  | 57 => 0xA50D3132#32
  | 58 => 0x3F5DB3D7#32
  | 59 => 0x3F5DB3D7#32
  | 60 => 0x80000000#32
  | 61 => 0xBF5DB3D7#32
  | 62 => 0xBF5DB3D7#32
  | 63 => 0xA50D3132#32
  | 64 => 0x3F5DB3D7#32
  | 65 => 0x3F5DB3D7#32
  | 66 => 0x80000000#32
  | 67 => 0xBF5DB3D7#32
  | 68 => 0xBF5DB3D7#32
  | 69 => 0xA50D3132#32
  | 70 => 0x3F5DB3D7#32
  | 71 => 0x3F5DB3D7#32
  | 72 => 0x80000000#32
  | 73 => 0xBF5DB3D7#32
  | 74 => 0xBF5DB3D7#32
  | 75 => 0xA50D3132#32
  | 76 => 0x3F5DB3D7#32
  | 77 => 0x3F5DB3D7#32
  | 78 => 0x80000000#32
  | 79 => 0xBF5DB3D7#32
  | 80 => 0xBF5DB3D7#32
  | 81 => 0xA50D3132#32
  | 82 => 0x3F5DB3D7#32
  | 83 => 0x3F5DB3D7#32
  | 84 => 0x80000000#32
  | 85 => 0xBF5DB3D7#32
  | 86 => 0xBF5DB3D7#32
  | 87 => 0xA50D3132#32
  | 88 => 0x3F5DB3D7#32
  | 89 => 0x3F5DB3D7#32
  | 90 => 0x80000000#32
  | 91 => 0xBF5DB3D7#32
  | 92 => 0xBF5DB3D7#32
  | 93 => 0xA50D3132#32
  | 94 => 0x3F5DB3D7#32
  | 95 => 0x3F5DB3D7#32
  | 96 => 0x80000000#32
  | 97 => 0xBF5DB3D7#32
  | 98 => 0xBF5DB3D7#32
  | 99 => 0xA50D3132#32
  | 100 => 0x3F5DB3D7#32
  | 101 => 0x3F5DB3D7#32
  | 102 => 0x80000000#32
  | 103 => 0xBF5DB3D7#32
  | 104 => 0xBF5DB3D7#32
  | 105 => 0xA50D3132#32
  | 106 => 0x3F5DB3D7#32
  | 107 => 0x3F5DB3D7#32
  | 108 => 0x80000000#32
  | 109 => 0xBF5DB3D7#32
  | 110 => 0xBF5DB3D7#32
  | 111 => 0xA50D3132#32
  | 112 => 0x3F5DB3D7#32
  | 113 => 0x3F5DB3D7#32
  | 114 => 0x80000000#32
  | 115 => 0xBF5DB3D7#32
  | 116 => 0xBF5DB3D7#32
  | 117 => 0xA50D3132#32
  | 118 => 0x3F5DB3D7#32
  | 119 => 0x3F5DB3D7#32
  | 120 => 0x80000000#32
  | 121 => 0xBF5DB3D7#32
  | 122 => 0xBF5DB3D7#32
  | 123 => 0xA50D3132#32
  | 124 => 0x3F5DB3D7#32
  | 125 => 0x3F5DB3D7#32
  | 126 => 0x80000000#32
  | 127 => 0xBF5DB3D7#32
  | _ => 0#32

noncomputable abbrev lit1t0_109 (i : Nat) : BitVec 32 := match i % 128 with
  | 0 => 0xBF5DB3D7#32
  | 1 => 0xA50D3132#32
  | 2 => 0x3F5DB3D7#32
  | 3 => 0x3F5DB3D7#32
  | 4 => 0x80000000#32
  | 5 => 0xBF5DB3D7#32
  | 6 => 0xBF5DB3D7#32
  | 7 => 0xA50D3132#32
  | 8 => 0x3F5DB3D7#32
  | 9 => 0x3F5DB3D7#32
  | 10 => 0x80000000#32
  | 11 => 0xBF5DB3D7#32
  | 12 => 0xBF5DB3D7#32
  | 13 => 0xA50D3132#32
  | 14 => 0x3F5DB3D7#32
  | 15 => 0x3F5DB3D7#32
  | 16 => 0x80000000#32
  | 17 => 0xBF5DB3D7#32
  | 18 => 0xBF5DB3D7#32
  | 19 => 0xA50D3132#32
  | 20 => 0x3F5DB3D7#32
  | 21 => 0x3F5DB3D7#32
  | 22 => 0x80000000#32
  | 23 => 0xBF5DB3D7#32
  | 24 => 0xBF5DB3D7#32
  | 25 => 0xA50D3132#32
  | 26 => 0x3F5DB3D7#32
  | 27 => 0x3F5DB3D7#32
  | 28 => 0x80000000#32
  | 29 => 0xBF5DB3D7#32
  | 30 => 0xBF5DB3D7#32
  | 31 => 0xA50D3132#32
  | 32 => 0x3F5DB3D7#32
  | 33 => 0x3F5DB3D7#32
  | 34 => 0x80000000#32
  | 35 => 0xBF5DB3D7#32
  | 36 => 0xBF5DB3D7#32
  | 37 => 0xA50D3132#32
  | 38 => 0x3F5DB3D7#32
  | 39 => 0x3F5DB3D7#32
  | 40 => 0x80000000#32
  | 41 => 0xBF5DB3D7#32
  | 42 => 0xBF5DB3D7#32
  | 43 => 0xA50D3132#32
  | 44 => 0x3F5DB3D7#32
  | 45 => 0x3F5DB3D7#32
  | 46 => 0x80000000#32
  | 47 => 0xBF5DB3D7#32
  | 48 => 0xBF5DB3D7#32
  | 49 => 0xA50D3132#32
  | 50 => 0x3F5DB3D7#32
  | 51 => 0x3F5DB3D7#32
  | 52 => 0x80000000#32
  | 53 => 0xBF5DB3D7#32
  | 54 => 0xBF5DB3D7#32
  | 55 => 0xA50D3132#32
  | 56 => 0x3F5DB3D7#32
  | 57 => 0x3F5DB3D7#32
  | 58 => 0x80000000#32
  | 59 => 0xBF5DB3D7#32
  | 60 => 0xBF5DB3D7#32
  | 61 => 0xA50D3132#32
  | 62 => 0x3F5DB3D7#32
  | 63 => 0x3F5DB3D7#32
  | 64 => 0x80000000#32
  | 65 => 0xBF5DB3D7#32
  | 66 => 0xBF5DB3D7#32
  | 67 => 0xA50D3132#32
  | 68 => 0x3F5DB3D7#32
  | 69 => 0x3F5DB3D7#32
  | 70 => 0x80000000#32
  | 71 => 0xBF5DB3D7#32
  | 72 => 0xBF5DB3D7#32
  | 73 => 0xA50D3132#32
  | 74 => 0x3F5DB3D7#32
  | 75 => 0x3F5DB3D7#32
  | 76 => 0x80000000#32
  | 77 => 0xBF5DB3D7#32
  | 78 => 0xBF5DB3D7#32
  | 79 => 0xA50D3132#32
  | 80 => 0x3F5DB3D7#32
  | 81 => 0x3F5DB3D7#32
  | 82 => 0x80000000#32
  | 83 => 0xBF5DB3D7#32
  | 84 => 0xBF5DB3D7#32
  | 85 => 0xA50D3132#32
  | 86 => 0x3F5DB3D7#32
  | 87 => 0x3F5DB3D7#32
  | 88 => 0x80000000#32
  | 89 => 0xBF5DB3D7#32
  | 90 => 0xBF5DB3D7#32
  | 91 => 0xA50D3132#32
  | 92 => 0x3F5DB3D7#32
  | 93 => 0x3F5DB3D7#32
  | 94 => 0x80000000#32
  | 95 => 0xBF5DB3D7#32
  | 96 => 0xBF5DB3D7#32
  | 97 => 0xA50D3132#32
  | 98 => 0x3F5DB3D7#32
  | 99 => 0x3F5DB3D7#32
  | 100 => 0x80000000#32
  | 101 => 0xBF5DB3D7#32
  | 102 => 0xBF5DB3D7#32
  | 103 => 0xA50D3132#32
  | 104 => 0x3F5DB3D7#32
  | 105 => 0x3F5DB3D7#32
  | 106 => 0x80000000#32
  | 107 => 0xBF5DB3D7#32
  | 108 => 0xBF5DB3D7#32
  | 109 => 0xA50D3132#32
  | 110 => 0x3F5DB3D7#32
  | 111 => 0x3F5DB3D7#32
  | 112 => 0x80000000#32
  | 113 => 0xBF5DB3D7#32
  | 114 => 0xBF5DB3D7#32
  | 115 => 0xA50D3132#32
  | 116 => 0x3F5DB3D7#32
  | 117 => 0x3F5DB3D7#32
  | 118 => 0x80000000#32
  | 119 => 0xBF5DB3D7#32
  | 120 => 0xBF5DB3D7#32
  | 121 => 0xA50D3132#32
  | 122 => 0x3F5DB3D7#32
  | 123 => 0x3F5DB3D7#32
  | 124 => 0x80000000#32
  | 125 => 0xBF5DB3D7#32
  | 126 => 0xBF5DB3D7#32
  | 127 => 0xA50D3132#32
  | _ => 0#32

noncomputable abbrev lit1t0_110 (i : Nat) : BitVec 32 := match i % 128 with
  | 0 => 0x3F5DB3D7#32
  | 1 => 0x3F5DB3D7#32
  | 2 => 0x80000000#32
  | 3 => 0xBF5DB3D7#32
  | 4 => 0xBF5DB3D7#32
  | 5 => 0xA50D3132#32
  | 6 => 0x3F5DB3D7#32
  | 7 => 0x3F5DB3D7#32
  | 8 => 0x80000000#32
  | 9 => 0xBF5DB3D7#32
  | 10 => 0xBF5DB3D7#32
  | 11 => 0xA50D3132#32
  | 12 => 0x3F5DB3D7#32
  | 13 => 0x3F5DB3D7#32
  | 14 => 0x80000000#32
  | 15 => 0xBF5DB3D7#32
  | 16 => 0xBF5DB3D7#32
  | 17 => 0xA50D3132#32
  | 18 => 0x3F5DB3D7#32
  | 19 => 0x3F5DB3D7#32
  | 20 => 0x80000000#32
  | 21 => 0xBF5DB3D7#32
  | 22 => 0xBF5DB3D7#32
  | 23 => 0xA50D3132#32
  | 24 => 0x3F5DB3D7#32
  | 25 => 0x3F5DB3D7#32
  | 26 => 0x80000000#32
  | 27 => 0xBF5DB3D7#32
  | 28 => 0xBF5DB3D7#32
  | 29 => 0xA50D3132#32
  | 30 => 0x3F5DB3D7#32
  | 31 => 0x3F5DB3D7#32
  | 32 => 0x80000000#32
  | 33 => 0xBF60712A#32
  | 34 => 0xBF57E880#32
  | 35 => 0x3D85F213#32
  | 36 => 0x3F6803CA#32
  | 37 => 0x3F4E7327#32
  | 38 => 0xBE05A8A8#32
  | 39 => 0xBF6E9811#32
  | 40 => 0xBF441B7D#32
  | 41 => 0x3E47C5C2#32
  | 42 => 0x3F7426CB#32
  | 43 => 0x3F38ECD8#32
  | 44 => 0xBE8483EE#32
  | 45 => 0xBF78A9E0#32
  | 46 => 0xBF2CF37B#32
  | 47 => 0x3EA493B7#32
  | 48 => 0x3F7C1C5C#32
  | 49 => 0x3F203C85#32
  | 50 => 0xBEC3EF15#32
  | 51 => 0xBF7E7A7A#32
  | 52 => 0xBF12D5E8#32
  | 53 => 0x3EE273AA#32
  | 54 => 0x3F7FC1A0#32
  | 55 => 0x3F04CE53#32
  | 56 => 0xBF000000#32
  | 57 => 0xBF7FF067#32
  | 58 => 0xBEEC6A50#32
  | 59 => 0x3F0E39DA#32
  | 60 => 0x3F7F069E#32
  | 61 => 0x3ECE34D0#32
  | 62 => 0xBF1BD7CA#32
  | 63 => 0xBF7D0543#32
  | 64 => 0xBEAF1D44#32
  | 65 => 0x3F28CAE3#32
  | 66 => 0x3F79EE89#32
  | 67 => 0x3E8F45C0#32
  | 68 => 0xBF3504F3#32
  | 69 => 0xBF75C5D4#32
  | 70 => 0xBE5DA259#32
  | 71 => 0x3F407893#32
  | 72 => 0x3F708FB2#32
  | 73 => 0x3E1BC63C#32
  | 74 => 0xBF4B1934#32
  | 75 => 0xBF6A51DA#32
  | 76 => 0xBDB27EB6#32
  | 77 => 0x3F54DB31#32
  | 78 => 0x3F631324#32
  | 79 => 0x3CB2B521#32
  | 80 => 0xBF5DB3D7#32
  | 81 => 0xBF5ADB81#32
  | 82 => 0x3D32AA3E#32
  | 83 => 0x3F659974#32
  | 84 => 0x3F51B3F3#32
  | 85 => 0xBDDEF599#32
  | 86 => 0xBF6C835E#32
  | 87 => 0xBF47A682#32
  | 88 => 0x3E31D0D4#32
  | 89 => 0x3F726A03#32
  | 90 => 0x3F3CBE35#32
  | 91 => 0xBE7363EE#32
  | 92 => 0xBF7746EA#32
  | 93 => 0xBF310700#32
  | 94 => 0x3E99F61C#32
  | 95 => 0x3F7B14BE#32
  | 96 => 0x3F248DBB#32
  | 97 => 0xBEB9917B#32
  | 98 => 0xBF7DCF55#32
  | 99 => 0xBF176012#32
  | 100 => 0x3ED8616C#32
  | 101 => 0x3F7F73AF#32
  | 102 => 0x3F098C78#32
  | 103 => 0xBEF64429#32
  | 104 => 0xBF800000#32
  | 105 => 0xBEF64429#32
  | 106 => 0x3F098C78#32
  | 107 => 0x3F7F73AF#32
  | 108 => 0x3ED8616C#32
  | 109 => 0xBF176012#32
  | 110 => 0xBF7DCF55#32
  | 111 => 0xBEB9917B#32
  | 112 => 0x3F248DBB#32
  | 113 => 0x3F7B14BE#32
  | 114 => 0x3E99F61C#32
  | 115 => 0xBF310700#32
  | 116 => 0xBF7746EA#32
  | 117 => 0xBE7363EE#32
  | 118 => 0x3F3CBE35#32
  | 119 => 0x3F726A03#32
  | 120 => 0x3E31D0D4#32
  | 121 => 0xBF47A682#32
  | 122 => 0xBF6C835E#32
  | 123 => 0xBDDEF599#32
  | 124 => 0x3F51B3F3#32
  | 125 => 0x3F659974#32
  | 126 => 0x3D32AA3E#32
  | 127 => 0xBF5ADB81#32
  | _ => 0#32

noncomputable abbrev lit1t0_111 (i : Nat) : BitVec 32 := match i % 128 with
  | 0 => 0xBF5DB3D7#32
  | 1 => 0x3CB2B521#32
  | 2 => 0x3F631324#32
  | 3 => 0x3F54DB31#32
  | 4 => 0xBDB27EB6#32
  | 5 => 0xBF6A51DA#32
  | 6 => 0xBF4B1934#32
  | 7 => 0x3E1BC63C#32
  | 8 => 0x3F708FB2#32
  | 9 => 0x3F407893#32
  | 10 => 0xBE5DA259#32
  | 11 => 0xBF75C5D4#32
  | 12 => 0xBF3504F3#32
  | 13 => 0x3E8F45C0#32
  | 14 => 0x3F79EE89#32
  | 15 => 0x3F28CAE3#32
  | 16 => 0xBEAF1D44#32
  | 17 => 0xBF7D0543#32
  | 18 => 0xBF1BD7CA#32
  | 19 => 0x3ECE34D0#32
  | 20 => 0x3F7F069E#32
  | 21 => 0x3F0E39DA#32
  | 22 => 0xBEEC6A50#32
  | 23 => 0xBF7FF067#32
  | 24 => 0xBF000000#32
  | 25 => 0x3F04CE53#32
  | 26 => 0x3F7FC1A0#32
  | 27 => 0x3EE273AA#32
  | 28 => 0xBF12D5E8#32
  | 29 => 0xBF7E7A7A#32
  | 30 => 0xBEC3EF15#32
  | 31 => 0x3F203C85#32
  | 32 => 0x3F7C1C5C#32
  | 33 => 0x3EA493B7#32
  | 34 => 0xBF2CF37B#32
  | 35 => 0xBF78A9E0#32
  | 36 => 0xBE8483EE#32
  | 37 => 0x3F38ECD8#32
  | 38 => 0x3F7426CB#32
  | 39 => 0x3E47C5C2#32
  | 40 => 0xBF441B7D#32
  | 41 => 0xBF6E9811#32
  | 42 => 0xBE05A8A8#32
  | 43 => 0x3F4E7327#32
  | 44 => 0x3F6803CA#32
  | 45 => 0x3D85F213#32
  | 46 => 0xBF57E880#32
  | 47 => 0xBF60712A#32
  | 48 => 0xA50D3132#32
  | 49 => 0x3F60712A#32
  | 50 => 0x3F57E880#32
  | 51 => 0xBD85F213#32
  | 52 => 0xBF6803CA#32
  | 53 => 0xBF4E7327#32
  | 54 => 0x3E05A8A8#32
  | 55 => 0x3F6E9811#32
  | 56 => 0x3F441B7D#32
  | 57 => 0xBE47C5C2#32
  | 58 => 0xBF7426CB#32
  | 59 => 0xBF38ECD8#32
  | 60 => 0x3E8483EE#32
  | 61 => 0x3F78A9E0#32
  | 62 => 0x3F2CF37B#32
  | 63 => 0xBEA493B7#32
  | 64 => 0xBF7C1C5C#32
  | 65 => 0xBF203C85#32
  | 66 => 0x3EC3EF15#32
  | 67 => 0x3F7E7A7A#32
  | 68 => 0x3F12D5E8#32
  | 69 => 0xBEE273AA#32
  | 70 => 0xBF7FC1A0#32
  | 71 => 0xBF04CE53#32
  | 72 => 0x3F000000#32
  | 73 => 0x3F7FF067#32
  | 74 => 0x3EEC6A50#32
  | 75 => 0xBF0E39DA#32
  | 76 => 0xBF7F069E#32
  | 77 => 0xBECE34D0#32
  | 78 => 0x3F1BD7CA#32
  | 79 => 0x3F7D0543#32
  | 80 => 0x3EAF1D44#32
  | 81 => 0xBF28CAE3#32
  | 82 => 0xBF79EE89#32
  | 83 => 0xBE8F45C0#32
  | 84 => 0x3F3504F3#32
  | 85 => 0x3F75C5D4#32
  | 86 => 0x3E5DA259#32
  | 87 => 0xBF407893#32
  | 88 => 0xBF708FB2#32
  | 89 => 0xBE1BC63C#32
  | 90 => 0x3F4B1934#32
  | 91 => 0x3F6A51DA#32
  | 92 => 0x3DB27EB6#32
  | 93 => 0xBF54DB31#32
  | 94 => 0xBF631324#32
  | 95 => 0xBCB2B521#32
  | 96 => 0x3F5DB3D7#32
  | 97 => 0x3F5ADB81#32
  | 98 => 0xBD32AA3E#32
  | 99 => 0xBF659974#32
  | 100 => 0xBF51B3F3#32
  | 101 => 0x3DDEF599#32
  | 102 => 0x3F6C835E#32
  | 103 => 0x3F47A682#32
  | 104 => 0xBE31D0D4#32
  | 105 => 0xBF726A03#32
  | 106 => 0xBF3CBE35#32
  | 107 => 0x3E7363EE#32
  | 108 => 0x3F7746EA#32
  | 109 => 0x3F310700#32
  | 110 => 0xBE99F61C#32
  | 111 => 0xBF7B14BE#32
  | 112 => 0xBF248DBB#32
  | 113 => 0x3EB9917B#32
  | 114 => 0x3F7DCF55#32
  | 115 => 0x3F176012#32
  | 116 => 0xBED8616C#32
  | 117 => 0xBF7F73AF#32
  | 118 => 0xBF098C78#32
  | 119 => 0x3EF64429#32
  | 120 => 0x3F800000#32
  | 121 => 0x3EF64429#32
  | 122 => 0xBF098C78#32
  | 123 => 0xBF7F73AF#32
  | 124 => 0xBED8616C#32
  | 125 => 0x3F176012#32
  | 126 => 0x3F7DCF55#32
  | 127 => 0x3EB9917B#32
  | _ => 0#32

noncomputable abbrev lit1t0_112 (i : Nat) : BitVec 32 := match i % 128 with
  | 0 => 0xBF248DBB#32
  | 1 => 0xBF7B14BE#32
  | 2 => 0xBE99F61C#32
  | 3 => 0x3F310700#32
  | 4 => 0x3F7746EA#32
  | 5 => 0x3E7363EE#32
  | 6 => 0xBF3CBE35#32
  | 7 => 0xBF726A03#32
  | 8 => 0xBE31D0D4#32
  | 9 => 0x3F47A682#32
  | 10 => 0x3F6C835E#32
  | 11 => 0x3DDEF599#32
  | 12 => 0xBF51B3F3#32
  | 13 => 0xBF659974#32
  | 14 => 0xBD32AA3E#32
  | 15 => 0x3F5ADB81#32
  | 16 => 0x3F5DB3D7#32
  | 17 => 0xBCB2B521#32
  | 18 => 0xBF631324#32
  | 19 => 0xBF54DB31#32
  | 20 => 0x3DB27EB6#32
  | 21 => 0x3F6A51DA#32
  | 22 => 0x3F4B1934#32
  | 23 => 0xBE1BC63C#32
  | 24 => 0xBF708FB2#32
  | 25 => 0xBF407893#32
  | 26 => 0x3E5DA259#32
  | 27 => 0x3F75C5D4#32
  | 28 => 0x3F3504F3#32
  | 29 => 0xBE8F45C0#32
  | 30 => 0xBF79EE89#32
  | 31 => 0xBF28CAE3#32
  | 32 => 0x3EAF1D44#32
  | 33 => 0x3F7D0543#32
  | 34 => 0x3F1BD7CA#32
  | 35 => 0xBECE34D0#32
  | 36 => 0xBF7F069E#32
  | 37 => 0xBF0E39DA#32
  | 38 => 0x3EEC6A50#32
  | 39 => 0x3F7FF067#32
  | 40 => 0x3F000000#32
  | 41 => 0xBF04CE53#32
  | 42 => 0xBF7FC1A0#32
  | 43 => 0xBEE273AA#32
  | 44 => 0x3F12D5E8#32
  | 45 => 0x3F7E7A7A#32
  | 46 => 0x3EC3EF15#32
  | 47 => 0xBF203C85#32
  | 48 => 0xBF7C1C5C#32
  | 49 => 0xBEA493B7#32
  | 50 => 0x3F2CF37B#32
  | 51 => 0x3F78A9E0#32
  | 52 => 0x3E8483EE#32
  | 53 => 0xBF38ECD8#32
  | 54 => 0xBF7426CB#32
  | 55 => 0xBE47C5C2#32
  | 56 => 0x3F441B7D#32
  | 57 => 0x3F6E9811#32
  | 58 => 0x3E05A8A8#32
  | 59 => 0xBF4E7327#32
  | 60 => 0xBF6803CA#32
  | 61 => 0xBD85F213#32
  | 62 => 0x3F57E880#32
  | 63 => 0x3F60712A#32
  | 64 => 0x80000000#32
  | 65 => 0xBF631324#32
  | 66 => 0xBF51B3F3#32
  | 67 => 0x3E05A8A8#32
  | 68 => 0x3F708FB2#32
  | 69 => 0x3F3CBE35#32
  | 70 => 0xBE8483EE#32
  | 71 => 0xBF79EE89#32
  | 72 => 0xBF248DBB#32
  | 73 => 0x3EC3EF15#32
  | 74 => 0x3F7F069E#32
  | 75 => 0x3F098C78#32
  | 76 => 0xBF000000#32
  | 77 => 0xBF7FC1A0#32
  | 78 => 0xBED8616C#32
  | 79 => 0x3F1BD7CA#32
  | 80 => 0x3F7C1C5C#32
  | 81 => 0x3E99F61C#32
  | 82 => 0xBF3504F3#32
  | 83 => 0xBF7426CB#32
  | 84 => 0xBE31D0D4#32
  | 85 => 0x3F4B1934#32
  | 86 => 0x3F6803CA#32
  | 87 => 0x3D32AA3E#32
  | 88 => 0xBF5DB3D7#32
  | 89 => 0xBF57E880#32
  | 90 => 0x3DB27EB6#32
  | 91 => 0x3F6C835E#32
  | 92 => 0x3F441B7D#32
  | 93 => 0xBE5DA259#32
  | 94 => 0xBF7746EA#32
  | 95 => 0xBF2CF37B#32
  | 96 => 0x3EAF1D44#32
  | 97 => 0x3F7DCF55#32
  | 98 => 0x3F12D5E8#32
  | 99 => 0xBEEC6A50#32
  | 100 => 0xBF800000#32
  | 101 => 0xBEEC6A50#32
  | 102 => 0x3F12D5E8#32
  | 103 => 0x3F7DCF55#32
  | 104 => 0x3EAF1D44#32
  | 105 => 0xBF2CF37B#32
  | 106 => 0xBF7746EA#32
  | 107 => 0xBE5DA259#32
  | 108 => 0x3F441B7D#32
  | 109 => 0x3F6C835E#32
  | 110 => 0x3DB27EB6#32
  | 111 => 0xBF57E880#32
  | 112 => 0xBF5DB3D7#32
  | 113 => 0x3D32AA3E#32
  | 114 => 0x3F6803CA#32
  | 115 => 0x3F4B1934#32
  | 116 => 0xBE31D0D4#32
  | 117 => 0xBF7426CB#32
  | 118 => 0xBF3504F3#32
  | 119 => 0x3E99F61C#32
  | 120 => 0x3F7C1C5C#32
  | 121 => 0x3F1BD7CA#32
  | 122 => 0xBED8616C#32
  | 123 => 0xBF7FC1A0#32
  | 124 => 0xBF000000#32
  | 125 => 0x3F098C78#32
  | 126 => 0x3F7F069E#32
  | 127 => 0x3EC3EF15#32
  | _ => 0#32

noncomputable abbrev lit1t0_113 (i : Nat) : BitVec 32 := match i % 128 with
  | 0 => 0xBF248DBB#32
  | 1 => 0xBF79EE89#32
  | 2 => 0xBE8483EE#32
  | 3 => 0x3F3CBE35#32
  | 4 => 0x3F708FB2#32
  | 5 => 0x3E05A8A8#32
  | 6 => 0xBF51B3F3#32
  | 7 => 0xBF631324#32
  | 8 => 0xA50D3132#32
  | 9 => 0x3F631324#32
  | 10 => 0x3F51B3F3#32
  | 11 => 0xBE05A8A8#32
  | 12 => 0xBF708FB2#32
  | 13 => 0xBF3CBE35#32
  | 14 => 0x3E8483EE#32
  | 15 => 0x3F79EE89#32
  | 16 => 0x3F248DBB#32
  | 17 => 0xBEC3EF15#32
  | 18 => 0xBF7F069E#32
  | 19 => 0xBF098C78#32
  | 20 => 0x3F000000#32
  | 21 => 0x3F7FC1A0#32
  | 22 => 0x3ED8616C#32
  | 23 => 0xBF1BD7CA#32
  | 24 => 0xBF7C1C5C#32
  | 25 => 0xBE99F61C#32
  | 26 => 0x3F3504F3#32
  | 27 => 0x3F7426CB#32
  | 28 => 0x3E31D0D4#32
  | 29 => 0xBF4B1934#32
  | 30 => 0xBF6803CA#32
  | 31 => 0xBD32AA3E#32
  | 32 => 0x3F5DB3D7#32
  | 33 => 0x3F57E880#32
  | 34 => 0xBDB27EB6#32
  | 35 => 0xBF6C835E#32
  | 36 => 0xBF441B7D#32
  | 37 => 0x3E5DA259#32
  | 38 => 0x3F7746EA#32
  | 39 => 0x3F2CF37B#32
  | 40 => 0xBEAF1D44#32
  | 41 => 0xBF7DCF55#32
  | 42 => 0xBF12D5E8#32
  | 43 => 0x3EEC6A50#32
  | 44 => 0x3F800000#32
  | 45 => 0x3EEC6A50#32
  | 46 => 0xBF12D5E8#32
  | 47 => 0xBF7DCF55#32
  | 48 => 0xBEAF1D44#32
  | 49 => 0x3F2CF37B#32
  | 50 => 0x3F7746EA#32
  | 51 => 0x3E5DA259#32
  | 52 => 0xBF441B7D#32
  | 53 => 0xBF6C835E#32
  | 54 => 0xBDB27EB6#32
  | 55 => 0x3F57E880#32
  | 56 => 0x3F5DB3D7#32
  | 57 => 0xBD32AA3E#32
  | 58 => 0xBF6803CA#32
  | 59 => 0xBF4B1934#32
  | 60 => 0x3E31D0D4#32
  | 61 => 0x3F7426CB#32
  | 62 => 0x3F3504F3#32
  | 63 => 0xBE99F61C#32
  | 64 => 0xBF7C1C5C#32
  | 65 => 0xBF1BD7CA#32
  | 66 => 0x3ED8616C#32
  | 67 => 0x3F7FC1A0#32
  | 68 => 0x3F000000#32
  | 69 => 0xBF098C78#32
  | 70 => 0xBF7F069E#32
  | 71 => 0xBEC3EF15#32
  | 72 => 0x3F248DBB#32
  | 73 => 0x3F79EE89#32
  | 74 => 0x3E8483EE#32
  | 75 => 0xBF3CBE35#32
  | 76 => 0xBF708FB2#32
  | 77 => 0xBE05A8A8#32
  | 78 => 0x3F51B3F3#32
  | 79 => 0x3F631324#32
  | 80 => 0x80000000#32
  | 81 => 0xBF631324#32
  | 82 => 0xBF51B3F3#32
  | 83 => 0x3E05A8A8#32
  | 84 => 0x3F708FB2#32
  | 85 => 0x3F3CBE35#32
  | 86 => 0xBE8483EE#32
  | 87 => 0xBF79EE89#32
  | 88 => 0xBF248DBB#32
  | 89 => 0x3EC3EF15#32
  | 90 => 0x3F7F069E#32
  | 91 => 0x3F098C78#32
  | 92 => 0xBF000000#32
  | 93 => 0xBF7FC1A0#32
  | 94 => 0xBED8616C#32
  | 95 => 0x3F1BD7CA#32
  | 96 => 0x3F7C1C5C#32
  | 97 => 0x3E99F61C#32
  | 98 => 0xBF3504F3#32
  | 99 => 0xBF7426CB#32
  | 100 => 0xBE31D0D4#32
  | 101 => 0x3F4B1934#32
  | 102 => 0x3F6803CA#32
  | 103 => 0x3D32AA3E#32
  | 104 => 0xBF5DB3D7#32
  | 105 => 0xBF57E880#32
  | 106 => 0x3DB27EB6#32
  | 107 => 0x3F6C835E#32
  | 108 => 0x3F441B7D#32
  | 109 => 0xBE5DA259#32
  | 110 => 0xBF7746EA#32
  | 111 => 0xBF2CF37B#32
  | 112 => 0x3EAF1D44#32
  | 113 => 0x3F7DCF55#32
  | 114 => 0x3F12D5E8#32
  | 115 => 0xBEEC6A50#32
  | 116 => 0xBF800000#32
  | 117 => 0xBEEC6A50#32
  | 118 => 0x3F12D5E8#32
  | 119 => 0x3F7DCF55#32
  | 120 => 0x3EAF1D44#32
  | 121 => 0xBF2CF37B#32
  | 122 => 0xBF7746EA#32
  | 123 => 0xBE5DA259#32
  | 124 => 0x3F441B7D#32
  | 125 => 0x3F6C835E#32
  | 126 => 0x3DB27EB6#32
  | 127 => 0xBF57E880#32
  | _ => 0#32

noncomputable abbrev lit1t0_114 (i : Nat) : BitVec 32 := match i % 128 with
  | 0 => 0xBF5DB3D7#32
  | 1 => 0x3D32AA3E#32
  | 2 => 0x3F6803CA#32
  | 3 => 0x3F4B1934#32
  | 4 => 0xBE31D0D4#32
  | 5 => 0xBF7426CB#32
  | 6 => 0xBF3504F3#32
  | 7 => 0x3E99F61C#32
  | 8 => 0x3F7C1C5C#32
  | 9 => 0x3F1BD7CA#32
  | 10 => 0xBED8616C#32
  | 11 => 0xBF7FC1A0#32
  | 12 => 0xBF000000#32
  | 13 => 0x3F098C78#32
  | 14 => 0x3F7F069E#32
  | 15 => 0x3EC3EF15#32
  | 16 => 0xBF248DBB#32
  | 17 => 0xBF79EE89#32
  | 18 => 0xBE8483EE#32
  | 19 => 0x3F3CBE35#32
  | 20 => 0x3F708FB2#32
  | 21 => 0x3E05A8A8#32
  | 22 => 0xBF51B3F3#32
  | 23 => 0xBF631324#32
  | 24 => 0xA50D3132#32
  | 25 => 0x3F631324#32
  | 26 => 0x3F51B3F3#32
  | 27 => 0xBE05A8A8#32
  | 28 => 0xBF708FB2#32
  | 29 => 0xBF3CBE35#32
  | 30 => 0x3E8483EE#32
  | 31 => 0x3F79EE89#32
  | 32 => 0x3F248DBB#32
  | 33 => 0xBEC3EF15#32
  | 34 => 0xBF7F069E#32
  | 35 => 0xBF098C78#32
  | 36 => 0x3F000000#32
  | 37 => 0x3F7FC1A0#32
  | 38 => 0x3ED8616C#32
  | 39 => 0xBF1BD7CA#32
  | 40 => 0xBF7C1C5C#32
  | 41 => 0xBE99F61C#32
  | 42 => 0x3F3504F3#32
  | 43 => 0x3F7426CB#32
  | 44 => 0x3E31D0D4#32
  | 45 => 0xBF4B1934#32
  | 46 => 0xBF6803CA#32
  | 47 => 0xBD32AA3E#32
  | 48 => 0x3F5DB3D7#32
  | 49 => 0x3F57E880#32
  | 50 => 0xBDB27EB6#32
  | 51 => 0xBF6C835E#32
  | 52 => 0xBF441B7D#32
  | 53 => 0x3E5DA259#32
  | 54 => 0x3F7746EA#32
  | 55 => 0x3F2CF37B#32
  | 56 => 0xBEAF1D44#32
  | 57 => 0xBF7DCF55#32
  | 58 => 0xBF12D5E8#32
  | 59 => 0x3EEC6A50#32
  | 60 => 0x3F800000#32
  | 61 => 0x3EEC6A50#32
  | 62 => 0xBF12D5E8#32
  | 63 => 0xBF7DCF55#32
  | 64 => 0xBEAF1D44#32
  | 65 => 0x3F2CF37B#32
  | 66 => 0x3F7746EA#32
  | 67 => 0x3E5DA259#32
  | 68 => 0xBF441B7D#32
  | 69 => 0xBF6C835E#32
  | 70 => 0xBDB27EB6#32
  | 71 => 0x3F57E880#32
  | 72 => 0x3F5DB3D7#32
  | 73 => 0xBD32AA3E#32
  | 74 => 0xBF6803CA#32
  | 75 => 0xBF4B1934#32
  | 76 => 0x3E31D0D4#32
  | 77 => 0x3F7426CB#32
  | 78 => 0x3F3504F3#32
  | 79 => 0xBE99F61C#32
  | 80 => 0xBF7C1C5C#32
  | 81 => 0xBF1BD7CA#32
  | 82 => 0x3ED8616C#32
  | 83 => 0x3F7FC1A0#32
  | 84 => 0x3F000000#32
  | 85 => 0xBF098C78#32
  | 86 => 0xBF7F069E#32
  | 87 => 0xBEC3EF15#32
  | 88 => 0x3F248DBB#32
  | 89 => 0x3F79EE89#32
  | 90 => 0x3E8483EE#32
  | 91 => 0xBF3CBE35#32
  | 92 => 0xBF708FB2#32
  | 93 => 0xBE05A8A8#32
  | 94 => 0x3F51B3F3#32
  | 95 => 0x3F631324#32
  | 96 => 0x80000000#32
  | 97 => 0xBF659974#32
  | 98 => 0xBF4B1934#32
  | 99 => 0x3E47C5C2#32
  | 100 => 0x3F7746EA#32
  | 101 => 0x3F28CAE3#32
  | 102 => 0xBEC3EF15#32
  | 103 => 0xBF7F73AF#32
  | 104 => 0xBF000000#32
  | 105 => 0x3F0E39DA#32
  | 106 => 0x3F7DCF55#32
  | 107 => 0x3EA493B7#32
  | 108 => 0xBF3504F3#32
  | 109 => 0xBF726A03#32
  | 110 => 0xBE05A8A8#32
  | 111 => 0x3F54DB31#32
  | 112 => 0x3F5DB3D7#32
  | 113 => 0xBD85F213#32
  | 114 => 0xBF6C835E#32
  | 115 => 0xBF407893#32
  | 116 => 0x3E8483EE#32
  | 117 => 0x3F7B14BE#32
  | 118 => 0x3F1BD7CA#32
  | 119 => 0xBEE273AA#32
  | 120 => 0xBF800000#32
  | 121 => 0xBEE273AA#32
  | 122 => 0x3F1BD7CA#32
  | 123 => 0x3F7B14BE#32
  | 124 => 0x3E8483EE#32
  | 125 => 0xBF407893#32
  | 126 => 0xBF6C835E#32
  | 127 => 0xBD85F213#32
  | _ => 0#32

noncomputable abbrev lit1t0_115 (i : Nat) : BitVec 32 := match i % 128 with
  | 0 => 0x3F5DB3D7#32
  | 1 => 0x3F54DB31#32
  | 2 => 0xBE05A8A8#32
  | 3 => 0xBF726A03#32
  | 4 => 0xBF3504F3#32
  | 5 => 0x3EA493B7#32
  | 6 => 0x3F7DCF55#32
  | 7 => 0x3F0E39DA#32
  | 8 => 0xBF000000#32
  | 9 => 0xBF7F73AF#32
  | 10 => 0xBEC3EF15#32
  | 11 => 0x3F28CAE3#32
  | 12 => 0x3F7746EA#32
  | 13 => 0x3E47C5C2#32
  | 14 => 0xBF4B1934#32
  | 15 => 0xBF659974#32
  | 16 => 0xA50D3132#32
  | 17 => 0x3F659974#32
  | 18 => 0x3F4B1934#32
  | 19 => 0xBE47C5C2#32
  | 20 => 0xBF7746EA#32
  | 21 => 0xBF28CAE3#32
  | 22 => 0x3EC3EF15#32
  | 23 => 0x3F7F73AF#32
  | 24 => 0x3F000000#32
  | 25 => 0xBF0E39DA#32
  | 26 => 0xBF7DCF55#32
  | 27 => 0xBEA493B7#32
  | 28 => 0x3F3504F3#32
  | 29 => 0x3F726A03#32
  | 30 => 0x3E05A8A8#32
  | 31 => 0xBF54DB31#32
  | 32 => 0xBF5DB3D7#32
  | 33 => 0x3D85F213#32
  | 34 => 0x3F6C835E#32
  | 35 => 0x3F407893#32
  | 36 => 0xBE8483EE#32
  | 37 => 0xBF7B14BE#32
  | 38 => 0xBF1BD7CA#32
  | 39 => 0x3EE273AA#32
  | 40 => 0x3F800000#32
  | 41 => 0x3EE273AA#32
  | 42 => 0xBF1BD7CA#32
  | 43 => 0xBF7B14BE#32
  | 44 => 0xBE8483EE#32
  | 45 => 0x3F407893#32
  | 46 => 0x3F6C835E#32
  | 47 => 0x3D85F213#32
  | 48 => 0xBF5DB3D7#32
  | 49 => 0xBF54DB31#32
  | 50 => 0x3E05A8A8#32
  | 51 => 0x3F726A03#32
  | 52 => 0x3F3504F3#32
  | 53 => 0xBEA493B7#32
  | 54 => 0xBF7DCF55#32
  | 55 => 0xBF0E39DA#32
  | 56 => 0x3F000000#32
  | 57 => 0x3F7F73AF#32
  | 58 => 0x3EC3EF15#32
  | 59 => 0xBF28CAE3#32
  | 60 => 0xBF7746EA#32
  | 61 => 0xBE47C5C2#32
  | 62 => 0x3F4B1934#32
  | 63 => 0x3F659974#32
  | 64 => 0x80000000#32
  | 65 => 0xBF659974#32
  | 66 => 0xBF4B1934#32
  | 67 => 0x3E47C5C2#32
  | 68 => 0x3F7746EA#32
  | 69 => 0x3F28CAE3#32
  | 70 => 0xBEC3EF15#32
  | 71 => 0xBF7F73AF#32
  | 72 => 0xBF000000#32
  | 73 => 0x3F0E39DA#32
  | 74 => 0x3F7DCF55#32
  | 75 => 0x3EA493B7#32
  | 76 => 0xBF3504F3#32
  | 77 => 0xBF726A03#32
  | 78 => 0xBE05A8A8#32
  | 79 => 0x3F54DB31#32
  | 80 => 0x3F5DB3D7#32
  | 81 => 0xBD85F213#32
  | 82 => 0xBF6C835E#32
  | 83 => 0xBF407893#32
  | 84 => 0x3E8483EE#32
  | 85 => 0x3F7B14BE#32
  | 86 => 0x3F1BD7CA#32
  | 87 => 0xBEE273AA#32
  | 88 => 0xBF800000#32
  | 89 => 0xBEE273AA#32
  | 90 => 0x3F1BD7CA#32
  | 91 => 0x3F7B14BE#32
  | 92 => 0x3E8483EE#32
  | 93 => 0xBF407893#32
  | 94 => 0xBF6C835E#32
  | 95 => 0xBD85F213#32
  | 96 => 0x3F5DB3D7#32
  | 97 => 0x3F54DB31#32
  | 98 => 0xBE05A8A8#32
  | 99 => 0xBF726A03#32
  | 100 => 0xBF3504F3#32
  | 101 => 0x3EA493B7#32
  | 102 => 0x3F7DCF55#32
  | 103 => 0x3F0E39DA#32
  | 104 => 0xBF000000#32
  | 105 => 0xBF7F73AF#32
  | 106 => 0xBEC3EF15#32
  | 107 => 0x3F28CAE3#32
  | 108 => 0x3F7746EA#32
  | 109 => 0x3E47C5C2#32
  | 110 => 0xBF4B1934#32
  | 111 => 0xBF659974#32
  | 112 => 0xA50D3132#32
  | 113 => 0x3F659974#32
  | 114 => 0x3F4B1934#32
  | 115 => 0xBE47C5C2#32
  | 116 => 0xBF7746EA#32
  | 117 => 0xBF28CAE3#32
  | 118 => 0x3EC3EF15#32
  | 119 => 0x3F7F73AF#32
  | 120 => 0x3F000000#32
  | 121 => 0xBF0E39DA#32
  | 122 => 0xBF7DCF55#32
  | 123 => 0xBEA493B7#32
  | 124 => 0x3F3504F3#32
  | 125 => 0x3F726A03#32
  | 126 => 0x3E05A8A8#32
  | 127 => 0xBF54DB31#32
  | _ => 0#32

noncomputable abbrev lit1t0_116 (i : Nat) : BitVec 32 := match i % 128 with
  | 0 => 0xBF5DB3D7#32
  | 1 => 0x3D85F213#32
  | 2 => 0x3F6C835E#32
  | 3 => 0x3F407893#32
  | 4 => 0xBE8483EE#32
  | 5 => 0xBF7B14BE#32
  | 6 => 0xBF1BD7CA#32
  | 7 => 0x3EE273AA#32
  | 8 => 0x3F800000#32
  | 9 => 0x3EE273AA#32
  | 10 => 0xBF1BD7CA#32
  | 11 => 0xBF7B14BE#32
  | 12 => 0xBE8483EE#32
  | 13 => 0x3F407893#32
  | 14 => 0x3F6C835E#32
  | 15 => 0x3D85F213#32
  | 16 => 0xBF5DB3D7#32
  | 17 => 0xBF54DB31#32
  | 18 => 0x3E05A8A8#32
  | 19 => 0x3F726A03#32
  | 20 => 0x3F3504F3#32
  | 21 => 0xBEA493B7#32
  | 22 => 0xBF7DCF55#32
  | 23 => 0xBF0E39DA#32
  | 24 => 0x3F000000#32
  | 25 => 0x3F7F73AF#32
  | 26 => 0x3EC3EF15#32
  | 27 => 0xBF28CAE3#32
  | 28 => 0xBF7746EA#32
  | 29 => 0xBE47C5C2#32
  | 30 => 0x3F4B1934#32
  | 31 => 0x3F659974#32
  | 32 => 0x80000000#32
  | 33 => 0xBF659974#32
  | 34 => 0xBF4B1934#32
  | 35 => 0x3E47C5C2#32
  | 36 => 0x3F7746EA#32
  | 37 => 0x3F28CAE3#32
  | 38 => 0xBEC3EF15#32
  | 39 => 0xBF7F73AF#32
  | 40 => 0xBF000000#32
  | 41 => 0x3F0E39DA#32
  | 42 => 0x3F7DCF55#32
  | 43 => 0x3EA493B7#32
  | 44 => 0xBF3504F3#32
  | 45 => 0xBF726A03#32
  | 46 => 0xBE05A8A8#32
  | 47 => 0x3F54DB31#32
  | 48 => 0x3F5DB3D7#32
  | 49 => 0xBD85F213#32
  | 50 => 0xBF6C835E#32
  | 51 => 0xBF407893#32
  | 52 => 0x3E8483EE#32
  | 53 => 0x3F7B14BE#32
  | 54 => 0x3F1BD7CA#32
  | 55 => 0xBEE273AA#32
  | 56 => 0xBF800000#32
  | 57 => 0xBEE273AA#32
  | 58 => 0x3F1BD7CA#32
  | 59 => 0x3F7B14BE#32
  | 60 => 0x3E8483EE#32
  | 61 => 0xBF407893#32
  | 62 => 0xBF6C835E#32
  | 63 => 0xBD85F213#32
  | 64 => 0x3F5DB3D7#32
  | 65 => 0x3F54DB31#32
  | 66 => 0xBE05A8A8#32
  | 67 => 0xBF726A03#32
  | 68 => 0xBF3504F3#32
  | 69 => 0x3EA493B7#32
  | 70 => 0x3F7DCF55#32
  | 71 => 0x3F0E39DA#32
  | 72 => 0xBF000000#32
  | 73 => 0xBF7F73AF#32
  | 74 => 0xBEC3EF15#32
  | 75 => 0x3F28CAE3#32
  | 76 => 0x3F7746EA#32
  | 77 => 0x3E47C5C2#32
  | 78 => 0xBF4B1934#32
  | 79 => 0xBF659974#32
  | 80 => 0xA50D3132#32
  | 81 => 0x3F659974#32
  | 82 => 0x3F4B1934#32
  | 83 => 0xBE47C5C2#32
  | 84 => 0xBF7746EA#32
  | 85 => 0xBF28CAE3#32
  | 86 => 0x3EC3EF15#32
  | 87 => 0x3F7F73AF#32
  | 88 => 0x3F000000#32
  | 89 => 0xBF0E39DA#32
  | 90 => 0xBF7DCF55#32
  | 91 => 0xBEA493B7#32
  | 92 => 0x3F3504F3#32
  | 93 => 0x3F726A03#32
  | 94 => 0x3E05A8A8#32
  | 95 => 0xBF54DB31#32
  | 96 => 0xBF5DB3D7#32
  | 97 => 0x3D85F213#32
  | 98 => 0x3F6C835E#32
  | 99 => 0x3F407893#32
  | 100 => 0xBE8483EE#32
  | 101 => 0xBF7B14BE#32
  | 102 => 0xBF1BD7CA#32
  | 103 => 0x3EE273AA#32
  | 104 => 0x3F800000#32
  | 105 => 0x3EE273AA#32
  | 106 => 0xBF1BD7CA#32
  | 107 => 0xBF7B14BE#32
  | 108 => 0xBE8483EE#32
  | 109 => 0x3F407893#32
  | 110 => 0x3F6C835E#32
  | 111 => 0x3D85F213#32
  | 112 => 0xBF5DB3D7#32
  | 113 => 0xBF54DB31#32
  | 114 => 0x3E05A8A8#32
  | 115 => 0x3F726A03#32
  | 116 => 0x3F3504F3#32
  | 117 => 0xBEA493B7#32
  | 118 => 0xBF7DCF55#32
  | 119 => 0xBF0E39DA#32
  | 120 => 0x3F000000#32
  | 121 => 0x3F7F73AF#32
  | 122 => 0x3EC3EF15#32
  | 123 => 0xBF28CAE3#32
  | 124 => 0xBF7746EA#32
  | 125 => 0xBE47C5C2#32
  | 126 => 0x3F4B1934#32
  | 127 => 0x3F659974#32
  | _ => 0#32

noncomputable abbrev lit1t0_117 (i : Nat) : BitVec 32 := match i % 128 with
  | 0 => 0x80000000#32
  | 1 => 0xBF6803CA#32
  | 2 => 0xBF441B7D#32
  | 3 => 0x3E8483EE#32
  | 4 => 0x3F7C1C5C#32
  | 5 => 0x3F12D5E8#32
  | 6 => 0xBF000000#32
  | 7 => 0xBF7F069E#32
  | 8 => 0xBEAF1D44#32
  | 9 => 0x3F3504F3#32
  | 10 => 0x3F708FB2#32
  | 11 => 0x3DB27EB6#32
  | 12 => 0xBF5DB3D7#32
  | 13 => 0xBF51B3F3#32
  | 14 => 0x3E31D0D4#32
  | 15 => 0x3F7746EA#32
  | 16 => 0x3F248DBB#32
  | 17 => 0xBED8616C#32
  | 18 => 0xBF800000#32
  | 19 => 0xBED8616C#32
  | 20 => 0x3F248DBB#32
  | 21 => 0x3F7746EA#32
  | 22 => 0x3E31D0D4#32
  | 23 => 0xBF51B3F3#32
  | 24 => 0xBF5DB3D7#32
  | 25 => 0x3DB27EB6#32
  | 26 => 0x3F708FB2#32
  | 27 => 0x3F3504F3#32
  | 28 => 0xBEAF1D44#32
  | 29 => 0xBF7F069E#32
  | 30 => 0xBF000000#32
  | 31 => 0x3F12D5E8#32
  | 32 => 0x3F7C1C5C#32
  | 33 => 0x3E8483EE#32
  | 34 => 0xBF441B7D#32
  | 35 => 0xBF6803CA#32
  | 36 => 0xA50D3132#32
  | 37 => 0x3F6803CA#32
  | 38 => 0x3F441B7D#32
  | 39 => 0xBE8483EE#32
  | 40 => 0xBF7C1C5C#32
  | 41 => 0xBF12D5E8#32
  | 42 => 0x3F000000#32
  | 43 => 0x3F7F069E#32
  | 44 => 0x3EAF1D44#32
  | 45 => 0xBF3504F3#32
  | 46 => 0xBF708FB2#32
  | 47 => 0xBDB27EB6#32
  | 48 => 0x3F5DB3D7#32
  | 49 => 0x3F51B3F3#32
  | 50 => 0xBE31D0D4#32
  | 51 => 0xBF7746EA#32
  | 52 => 0xBF248DBB#32
  | 53 => 0x3ED8616C#32
  | 54 => 0x3F800000#32
  | 55 => 0x3ED8616C#32
  | 56 => 0xBF248DBB#32
  | 57 => 0xBF7746EA#32
  | 58 => 0xBE31D0D4#32
  | 59 => 0x3F51B3F3#32
  | 60 => 0x3F5DB3D7#32
  | 61 => 0xBDB27EB6#32
  | 62 => 0xBF708FB2#32
  | 63 => 0xBF3504F3#32
  | 64 => 0x3EAF1D44#32
  | 65 => 0x3F7F069E#32
  | 66 => 0x3F000000#32
  | 67 => 0xBF12D5E8#32
  | 68 => 0xBF7C1C5C#32
  | 69 => 0xBE8483EE#32
  | 70 => 0x3F441B7D#32
  | 71 => 0x3F6803CA#32
  | 72 => 0x80000000#32
  | 73 => 0xBF6803CA#32
  | 74 => 0xBF441B7D#32
  | 75 => 0x3E8483EE#32
  | 76 => 0x3F7C1C5C#32
  | 77 => 0x3F12D5E8#32
  | 78 => 0xBF000000#32
  | 79 => 0xBF7F069E#32
  | 80 => 0xBEAF1D44#32
  | 81 => 0x3F3504F3#32
  | 82 => 0x3F708FB2#32
  | 83 => 0x3DB27EB6#32
  | 84 => 0xBF5DB3D7#32
  | 85 => 0xBF51B3F3#32
  | 86 => 0x3E31D0D4#32
  | 87 => 0x3F7746EA#32
  | 88 => 0x3F248DBB#32
  | 89 => 0xBED8616C#32
  | 90 => 0xBF800000#32
  | 91 => 0xBED8616C#32
  | 92 => 0x3F248DBB#32
  | 93 => 0x3F7746EA#32
  | 94 => 0x3E31D0D4#32
  | 95 => 0xBF51B3F3#32
  | 96 => 0xBF5DB3D7#32
  | 97 => 0x3DB27EB6#32
  | 98 => 0x3F708FB2#32
  | 99 => 0x3F3504F3#32
  | 100 => 0xBEAF1D44#32
  | 101 => 0xBF7F069E#32
  | 102 => 0xBF000000#32
  | 103 => 0x3F12D5E8#32
  | 104 => 0x3F7C1C5C#32
  | 105 => 0x3E8483EE#32
  | 106 => 0xBF441B7D#32
  | 107 => 0xBF6803CA#32
  | 108 => 0xA50D3132#32
  | 109 => 0x3F6803CA#32
  | 110 => 0x3F441B7D#32
  | 111 => 0xBE8483EE#32
  | 112 => 0xBF7C1C5C#32
  | 113 => 0xBF12D5E8#32
  | 114 => 0x3F000000#32
  | 115 => 0x3F7F069E#32
  | 116 => 0x3EAF1D44#32
  | 117 => 0xBF3504F3#32
  | 118 => 0xBF708FB2#32
  | 119 => 0xBDB27EB6#32
  | 120 => 0x3F5DB3D7#32
  | 121 => 0x3F51B3F3#32
  | 122 => 0xBE31D0D4#32
  | 123 => 0xBF7746EA#32
  | 124 => 0xBF248DBB#32
  | 125 => 0x3ED8616C#32
  | 126 => 0x3F800000#32
  | 127 => 0x3ED8616C#32
  | _ => 0#32

noncomputable abbrev lit1t0_118 (i : Nat) : BitVec 32 := match i % 128 with
  | 0 => 0xBF248DBB#32
  | 1 => 0xBF7746EA#32
  | 2 => 0xBE31D0D4#32
  | 3 => 0x3F51B3F3#32
  | 4 => 0x3F5DB3D7#32
  | 5 => 0xBDB27EB6#32
  | 6 => 0xBF708FB2#32
  | 7 => 0xBF3504F3#32
  | 8 => 0x3EAF1D44#32
  | 9 => 0x3F7F069E#32
  | 10 => 0x3F000000#32
  | 11 => 0xBF12D5E8#32
  | 12 => 0xBF7C1C5C#32
  | 13 => 0xBE8483EE#32
  | 14 => 0x3F441B7D#32
  | 15 => 0x3F6803CA#32
  | 16 => 0x80000000#32
  | 17 => 0xBF6803CA#32
  | 18 => 0xBF441B7D#32
  | 19 => 0x3E8483EE#32
  | 20 => 0x3F7C1C5C#32
  | 21 => 0x3F12D5E8#32
  | 22 => 0xBF000000#32
  | 23 => 0xBF7F069E#32
  | 24 => 0xBEAF1D44#32
  | 25 => 0x3F3504F3#32
  | 26 => 0x3F708FB2#32
  | 27 => 0x3DB27EB6#32
  | 28 => 0xBF5DB3D7#32
  | 29 => 0xBF51B3F3#32
  | 30 => 0x3E31D0D4#32
  | 31 => 0x3F7746EA#32
  | 32 => 0x3F248DBB#32
  | 33 => 0xBED8616C#32
  | 34 => 0xBF800000#32
  | 35 => 0xBED8616C#32
  | 36 => 0x3F248DBB#32
  | 37 => 0x3F7746EA#32
  | 38 => 0x3E31D0D4#32
  | 39 => 0xBF51B3F3#32
  | 40 => 0xBF5DB3D7#32
  | 41 => 0x3DB27EB6#32
  | 42 => 0x3F708FB2#32
  | 43 => 0x3F3504F3#32
  | 44 => 0xBEAF1D44#32
  | 45 => 0xBF7F069E#32
  | 46 => 0xBF000000#32
  | 47 => 0x3F12D5E8#32
  | 48 => 0x3F7C1C5C#32
  | 49 => 0x3E8483EE#32
  | 50 => 0xBF441B7D#32
  | 51 => 0xBF6803CA#32
  | 52 => 0xA50D3132#32
  | 53 => 0x3F6803CA#32
  | 54 => 0x3F441B7D#32
  | 55 => 0xBE8483EE#32
  | 56 => 0xBF7C1C5C#32
  | 57 => 0xBF12D5E8#32
  | 58 => 0x3F000000#32
  | 59 => 0x3F7F069E#32
  | 60 => 0x3EAF1D44#32
  | 61 => 0xBF3504F3#32
  | 62 => 0xBF708FB2#32
  | 63 => 0xBDB27EB6#32
  | 64 => 0x3F5DB3D7#32
  | 65 => 0x3F51B3F3#32
  | 66 => 0xBE31D0D4#32
  | 67 => 0xBF7746EA#32
  | 68 => 0xBF248DBB#32
  | 69 => 0x3ED8616C#32
  | 70 => 0x3F800000#32
  | 71 => 0x3ED8616C#32
  | 72 => 0xBF248DBB#32
  | 73 => 0xBF7746EA#32
  | 74 => 0xBE31D0D4#32
  | 75 => 0x3F51B3F3#32
  | 76 => 0x3F5DB3D7#32
  | 77 => 0xBDB27EB6#32
  | 78 => 0xBF708FB2#32
  | 79 => 0xBF3504F3#32
  | 80 => 0x3EAF1D44#32
  | 81 => 0x3F7F069E#32
  | 82 => 0x3F000000#32
  | 83 => 0xBF12D5E8#32
  | 84 => 0xBF7C1C5C#32
  | 85 => 0xBE8483EE#32
  | 86 => 0x3F441B7D#32
  | 87 => 0x3F6803CA#32
  | 88 => 0x80000000#32
  | 89 => 0xBF6803CA#32
  | 90 => 0xBF441B7D#32
  | 91 => 0x3E8483EE#32
  | 92 => 0x3F7C1C5C#32
  | 93 => 0x3F12D5E8#32
  | 94 => 0xBF000000#32
  | 95 => 0xBF7F069E#32
  | 96 => 0xBEAF1D44#32
  | 97 => 0x3F3504F3#32
  | 98 => 0x3F708FB2#32
  | 99 => 0x3DB27EB6#32
  | 100 => 0xBF5DB3D7#32
  | 101 => 0xBF51B3F3#32
  | 102 => 0x3E31D0D4#32
  | 103 => 0x3F7746EA#32
  | 104 => 0x3F248DBB#32
  | 105 => 0xBED8616C#32
  | 106 => 0xBF800000#32
  | 107 => 0xBED8616C#32
  | 108 => 0x3F248DBB#32
  | 109 => 0x3F7746EA#32
  | 110 => 0x3E31D0D4#32
  | 111 => 0xBF51B3F3#32
  | 112 => 0xBF5DB3D7#32
  | 113 => 0x3DB27EB6#32
  | 114 => 0x3F708FB2#32
  | 115 => 0x3F3504F3#32
  | 116 => 0xBEAF1D44#32
  | 117 => 0xBF7F069E#32
  | 118 => 0xBF000000#32
  | 119 => 0x3F12D5E8#32
  | 120 => 0x3F7C1C5C#32
  | 121 => 0x3E8483EE#32
  | 122 => 0xBF441B7D#32
  | 123 => 0xBF6803CA#32
  | 124 => 0xA50D3132#32
  | 125 => 0x3F6803CA#32
  | 126 => 0x3F441B7D#32
  | 127 => 0xBE8483EE#32
  | _ => 0#32

noncomputable abbrev lit1t0_119 (i : Nat) : BitVec 32 := match i % 128 with
  | 0 => 0xBF7C1C5C#32
  | 1 => 0xBF12D5E8#32
  | 2 => 0x3F000000#32
  | 3 => 0x3F7F069E#32
  | 4 => 0x3EAF1D44#32
  | 5 => 0xBF3504F3#32
  | 6 => 0xBF708FB2#32
  | 7 => 0xBDB27EB6#32
  | 8 => 0x3F5DB3D7#32
  | 9 => 0x3F51B3F3#32
  | 10 => 0xBE31D0D4#32
  | 11 => 0xBF7746EA#32
  | 12 => 0xBF248DBB#32
  | 13 => 0x3ED8616C#32
  | 14 => 0x3F800000#32
  | 15 => 0x3ED8616C#32
  | 16 => 0xBF248DBB#32
  | 17 => 0xBF7746EA#32
  | 18 => 0xBE31D0D4#32
  | 19 => 0x3F51B3F3#32
  | 20 => 0x3F5DB3D7#32
  | 21 => 0xBDB27EB6#32
  | 22 => 0xBF708FB2#32
  | 23 => 0xBF3504F3#32
  | 24 => 0x3EAF1D44#32
  | 25 => 0x3F7F069E#32
  | 26 => 0x3F000000#32
  | 27 => 0xBF12D5E8#32
  | 28 => 0xBF7C1C5C#32
  | 29 => 0xBE8483EE#32
  | 30 => 0x3F441B7D#32
  | 31 => 0x3F6803CA#32
  | 32 => 0x80000000#32
  | 33 => 0xBF6A51DA#32
  | 34 => 0xBF3CBE35#32
  | 35 => 0x3EA493B7#32
  | 36 => 0x3F7F069E#32
  | 37 => 0x3EF64429#32
  | 38 => 0xBF1BD7CA#32
  | 39 => 0xBF78A9E0#32
  | 40 => 0xBE31D0D4#32
  | 41 => 0x3F54DB31#32
  | 42 => 0x3F57E880#32
  | 43 => 0xBE1BC63C#32
  | 44 => 0xBF7746EA#32
  | 45 => 0xBF203C85#32
  | 46 => 0x3EEC6A50#32
  | 47 => 0x3F7F73AF#32
  | 48 => 0x3EAF1D44#32
  | 49 => 0xBF38ECD8#32
  | 50 => 0xBF6C835E#32
  | 51 => 0xBCB2B521#32
  | 52 => 0x3F6803CA#32
  | 53 => 0x3F407893#32
  | 54 => 0xBE99F61C#32
  | 55 => 0xBF7E7A7A#32
  | 56 => 0xBF000000#32
  | 57 => 0x3F176012#32
  | 58 => 0x3F79EE89#32
  | 59 => 0x3E47C5C2#32
  | 60 => 0xBF51B3F3#32
  | 61 => 0xBF5ADB81#32
  | 62 => 0x3E05A8A8#32
  | 63 => 0x3F75C5D4#32
  | 64 => 0x3F248DBB#32
  | 65 => 0xBEE273AA#32
  | 66 => 0xBF7FC1A0#32
  | 67 => 0xBEB9917B#32
  | 68 => 0x3F3504F3#32
  | 69 => 0x3F6E9811#32
  | 70 => 0x3D32AA3E#32
  | 71 => 0xBF659974#32
  | 72 => 0xBF441B7D#32
  | 73 => 0x3E8F45C0#32
  | 74 => 0x3F7DCF55#32
  | 75 => 0x3F04CE53#32
  | 76 => 0xBF12D5E8#32
  | 77 => 0xBF7B14BE#32
  | 78 => 0xBE5DA259#32
  | 79 => 0x3F4E7327#32
  | 80 => 0x3F5DB3D7#32
  | 81 => 0xBDDEF599#32
  | 82 => 0xBF7426CB#32
  | 83 => 0xBF28CAE3#32
  | 84 => 0x3ED8616C#32
  | 85 => 0x3F7FF067#32
  | 86 => 0x3EC3EF15#32
  | 87 => 0xBF310700#32
  | 88 => 0xBF708FB2#32
  | 89 => 0xBD85F213#32
  | 90 => 0x3F631324#32
  | 91 => 0x3F47A682#32
  | 92 => 0xBE8483EE#32
  | 93 => 0xBF7D0543#32
  | 94 => 0xBF098C78#32
  | 95 => 0x3F0E39DA#32
  | 96 => 0x3F7C1C5C#32
  | 97 => 0x3E7363EE#32
  | 98 => 0xBF4B1934#32
  | 99 => 0xBF60712A#32
  | 100 => 0x3DB27EB6#32
  | 101 => 0x3F726A03#32
  | 102 => 0x3F2CF37B#32
  | 103 => 0xBECE34D0#32
  | 104 => 0xBF800000#32
  | 105 => 0xBECE34D0#32
  | 106 => 0x3F2CF37B#32
  | 107 => 0x3F726A03#32
  | 108 => 0x3DB27EB6#32
  | 109 => 0xBF60712A#32
  | 110 => 0xBF4B1934#32
  | 111 => 0x3E7363EE#32
  | 112 => 0x3F7C1C5C#32
  | 113 => 0x3F0E39DA#32
  | 114 => 0xBF098C78#32
  | 115 => 0xBF7D0543#32
  | 116 => 0xBE8483EE#32
  | 117 => 0x3F47A682#32
  | 118 => 0x3F631324#32
  | 119 => 0xBD85F213#32
  | 120 => 0xBF708FB2#32
  | 121 => 0xBF310700#32
  | 122 => 0x3EC3EF15#32
  | 123 => 0x3F7FF067#32
  | 124 => 0x3ED8616C#32
  | 125 => 0xBF28CAE3#32
  | 126 => 0xBF7426CB#32
  | 127 => 0xBDDEF599#32
  | _ => 0#32

noncomputable abbrev lit1t0_120 (i : Nat) : BitVec 32 := match i % 128 with
  | 0 => 0x3F5DB3D7#32
  | 1 => 0x3F4E7327#32
  | 2 => 0xBE5DA259#32
  | 3 => 0xBF7B14BE#32
  | 4 => 0xBF12D5E8#32
  | 5 => 0x3F04CE53#32
  | 6 => 0x3F7DCF55#32
  | 7 => 0x3E8F45C0#32
  | 8 => 0xBF441B7D#32
  | 9 => 0xBF659974#32
  | 10 => 0x3D32AA3E#32
  | 11 => 0x3F6E9811#32
  | 12 => 0x3F3504F3#32
  | 13 => 0xBEB9917B#32
  | 14 => 0xBF7FC1A0#32
  | 15 => 0xBEE273AA#32
  | 16 => 0x3F248DBB#32
  | 17 => 0x3F75C5D4#32
  | 18 => 0x3E05A8A8#32
  | 19 => 0xBF5ADB81#32
  | 20 => 0xBF51B3F3#32
  | 21 => 0x3E47C5C2#32
  | 22 => 0x3F79EE89#32
  | 23 => 0x3F176012#32
  | 24 => 0xBF000000#32
  | 25 => 0xBF7E7A7A#32
  | 26 => 0xBE99F61C#32
  | 27 => 0x3F407893#32
  | 28 => 0x3F6803CA#32
  | 29 => 0xBCB2B521#32
  | 30 => 0xBF6C835E#32
  | 31 => 0xBF38ECD8#32
  | 32 => 0x3EAF1D44#32
  | 33 => 0x3F7F73AF#32
  | 34 => 0x3EEC6A50#32
  | 35 => 0xBF203C85#32
  | 36 => 0xBF7746EA#32
  | 37 => 0xBE1BC63C#32
  | 38 => 0x3F57E880#32
  | 39 => 0x3F54DB31#32
  | 40 => 0xBE31D0D4#32
  | 41 => 0xBF78A9E0#32
  | 42 => 0xBF1BD7CA#32
  | 43 => 0x3EF64429#32
  | 44 => 0x3F7F069E#32
  | 45 => 0x3EA493B7#32
  | 46 => 0xBF3CBE35#32
  | 47 => 0xBF6A51DA#32
  | 48 => 0xA50D3132#32
  | 49 => 0x3F6A51DA#32
  | 50 => 0x3F3CBE35#32
  | 51 => 0xBEA493B7#32
  | 52 => 0xBF7F069E#32
  | 53 => 0xBEF64429#32
  | 54 => 0x3F1BD7CA#32
  | 55 => 0x3F78A9E0#32
  | 56 => 0x3E31D0D4#32
  | 57 => 0xBF54DB31#32
  | 58 => 0xBF57E880#32
  | 59 => 0x3E1BC63C#32
  | 60 => 0x3F7746EA#32
  | 61 => 0x3F203C85#32
  | 62 => 0xBEEC6A50#32
  | 63 => 0xBF7F73AF#32
  | 64 => 0xBEAF1D44#32
  | 65 => 0x3F38ECD8#32
  | 66 => 0x3F6C835E#32
  | 67 => 0x3CB2B521#32
  | 68 => 0xBF6803CA#32
  | 69 => 0xBF407893#32
  | 70 => 0x3E99F61C#32
  | 71 => 0x3F7E7A7A#32
  | 72 => 0x3F000000#32
  | 73 => 0xBF176012#32
  | 74 => 0xBF79EE89#32
  | 75 => 0xBE47C5C2#32
  | 76 => 0x3F51B3F3#32
  | 77 => 0x3F5ADB81#32
  | 78 => 0xBE05A8A8#32
  | 79 => 0xBF75C5D4#32
  | 80 => 0xBF248DBB#32
  | 81 => 0x3EE273AA#32
  | 82 => 0x3F7FC1A0#32
  | 83 => 0x3EB9917B#32
  | 84 => 0xBF3504F3#32
  | 85 => 0xBF6E9811#32
  | 86 => 0xBD32AA3E#32
  | 87 => 0x3F659974#32
  | 88 => 0x3F441B7D#32
  | 89 => 0xBE8F45C0#32
  | 90 => 0xBF7DCF55#32
  | 91 => 0xBF04CE53#32
  | 92 => 0x3F12D5E8#32
  | 93 => 0x3F7B14BE#32
  | 94 => 0x3E5DA259#32
  | 95 => 0xBF4E7327#32
  | 96 => 0xBF5DB3D7#32
  | 97 => 0x3DDEF599#32
  | 98 => 0x3F7426CB#32
  | 99 => 0x3F28CAE3#32
  | 100 => 0xBED8616C#32
  | 101 => 0xBF7FF067#32
  | 102 => 0xBEC3EF15#32
  | 103 => 0x3F310700#32
  | 104 => 0x3F708FB2#32
  | 105 => 0x3D85F213#32
  | 106 => 0xBF631324#32
  | 107 => 0xBF47A682#32
  | 108 => 0x3E8483EE#32
  | 109 => 0x3F7D0543#32
  | 110 => 0x3F098C78#32
  | 111 => 0xBF0E39DA#32
  | 112 => 0xBF7C1C5C#32
  | 113 => 0xBE7363EE#32
  | 114 => 0x3F4B1934#32
  | 115 => 0x3F60712A#32
  | 116 => 0xBDB27EB6#32
  | 117 => 0xBF726A03#32
  | 118 => 0xBF2CF37B#32
  | 119 => 0x3ECE34D0#32
  | 120 => 0x3F800000#32
  | 121 => 0x3ECE34D0#32
  | 122 => 0xBF2CF37B#32
  | 123 => 0xBF726A03#32
  | 124 => 0xBDB27EB6#32
  | 125 => 0x3F60712A#32
  | 126 => 0x3F4B1934#32
  | 127 => 0xBE7363EE#32
  | _ => 0#32

noncomputable abbrev lit1t0_121 (i : Nat) : BitVec 32 := match i % 128 with
  | 0 => 0xBF7C1C5C#32
  | 1 => 0xBF0E39DA#32
  | 2 => 0x3F098C78#32
  | 3 => 0x3F7D0543#32
  | 4 => 0x3E8483EE#32
  | 5 => 0xBF47A682#32
  | 6 => 0xBF631324#32
  | 7 => 0x3D85F213#32
  | 8 => 0x3F708FB2#32
  | 9 => 0x3F310700#32
  | 10 => 0xBEC3EF15#32
  | 11 => 0xBF7FF067#32
  | 12 => 0xBED8616C#32
  | 13 => 0x3F28CAE3#32
  | 14 => 0x3F7426CB#32
  | 15 => 0x3DDEF599#32
  | 16 => 0xBF5DB3D7#32
  | 17 => 0xBF4E7327#32
  | 18 => 0x3E5DA259#32
  | 19 => 0x3F7B14BE#32
  | 20 => 0x3F12D5E8#32
  | 21 => 0xBF04CE53#32
  | 22 => 0xBF7DCF55#32
  | 23 => 0xBE8F45C0#32
  | 24 => 0x3F441B7D#32
  | 25 => 0x3F659974#32
  | 26 => 0xBD32AA3E#32
  | 27 => 0xBF6E9811#32
  | 28 => 0xBF3504F3#32
  | 29 => 0x3EB9917B#32
  | 30 => 0x3F7FC1A0#32
  | 31 => 0x3EE273AA#32
  | 32 => 0xBF248DBB#32
  | 33 => 0xBF75C5D4#32
  | 34 => 0xBE05A8A8#32
  | 35 => 0x3F5ADB81#32
  | 36 => 0x3F51B3F3#32
  | 37 => 0xBE47C5C2#32
  | 38 => 0xBF79EE89#32
  | 39 => 0xBF176012#32
  | 40 => 0x3F000000#32
  | 41 => 0x3F7E7A7A#32
  | 42 => 0x3E99F61C#32
  | 43 => 0xBF407893#32
  | 44 => 0xBF6803CA#32
  | 45 => 0x3CB2B521#32
  | 46 => 0x3F6C835E#32
  | 47 => 0x3F38ECD8#32
  | 48 => 0xBEAF1D44#32
  | 49 => 0xBF7F73AF#32
  | 50 => 0xBEEC6A50#32
  | 51 => 0x3F203C85#32
  | 52 => 0x3F7746EA#32
  | 53 => 0x3E1BC63C#32
  | 54 => 0xBF57E880#32
  | 55 => 0xBF54DB31#32
  | 56 => 0x3E31D0D4#32
  | 57 => 0x3F78A9E0#32
  | 58 => 0x3F1BD7CA#32
  | 59 => 0xBEF64429#32
  | 60 => 0xBF7F069E#32
  | 61 => 0xBEA493B7#32
  | 62 => 0x3F3CBE35#32
  | 63 => 0x3F6A51DA#32
  | 64 => 0x80000000#32
  | 65 => 0xBF6C835E#32
  | 66 => 0xBF3504F3#32
  | 67 => 0x3EC3EF15#32
  | 68 => 0x3F800000#32
  | 69 => 0x3EC3EF15#32
  | 70 => 0xBF3504F3#32
  | 71 => 0xBF6C835E#32
  | 72 => 0xA50D3132#32
  | 73 => 0x3F6C835E#32
  | 74 => 0x3F3504F3#32
  | 75 => 0xBEC3EF15#32
  | 76 => 0xBF800000#32
  | 77 => 0xBEC3EF15#32
  | 78 => 0x3F3504F3#32
  | 79 => 0x3F6C835E#32
  | 80 => 0x80000000#32
  | 81 => 0xBF6C835E#32
  | 82 => 0xBF3504F3#32
  | 83 => 0x3EC3EF15#32
  | 84 => 0x3F800000#32
  | 85 => 0x3EC3EF15#32
  | 86 => 0xBF3504F3#32
  | 87 => 0xBF6C835E#32
  | 88 => 0xA50D3132#32
  | 89 => 0x3F6C835E#32
  | 90 => 0x3F3504F3#32
  | 91 => 0xBEC3EF15#32
  | 92 => 0xBF800000#32
  | 93 => 0xBEC3EF15#32
  | 94 => 0x3F3504F3#32
  | 95 => 0x3F6C835E#32
  | 96 => 0x80000000#32
  | 97 => 0xBF6C835E#32
  | 98 => 0xBF3504F3#32
  | 99 => 0x3EC3EF15#32
  | 100 => 0x3F800000#32
  | 101 => 0x3EC3EF15#32
  | 102 => 0xBF3504F3#32
  | 103 => 0xBF6C835E#32
  | 104 => 0xA50D3132#32
  | 105 => 0x3F6C835E#32
  | 106 => 0x3F3504F3#32
  | 107 => 0xBEC3EF15#32
  | 108 => 0xBF800000#32
  | 109 => 0xBEC3EF15#32
  | 110 => 0x3F3504F3#32
  | 111 => 0x3F6C835E#32
  | 112 => 0x80000000#32
  | 113 => 0xBF6C835E#32
  | 114 => 0xBF3504F3#32
  | 115 => 0x3EC3EF15#32
  | 116 => 0x3F800000#32
  | 117 => 0x3EC3EF15#32
  | 118 => 0xBF3504F3#32
  | 119 => 0xBF6C835E#32
  | 120 => 0xA50D3132#32
  | 121 => 0x3F6C835E#32
  | 122 => 0x3F3504F3#32
  | 123 => 0xBEC3EF15#32
  | 124 => 0xBF800000#32
  | 125 => 0xBEC3EF15#32
  | 126 => 0x3F3504F3#32
  | 127 => 0x3F6C835E#32
  | _ => 0#32

noncomputable abbrev lit1t0_122 (i : Nat) : BitVec 32 := match i % 128 with
  | 0 => 0x80000000#32
  | 1 => 0xBF6C835E#32
  | 2 => 0xBF3504F3#32
  | 3 => 0x3EC3EF15#32
  | 4 => 0x3F800000#32
  | 5 => 0x3EC3EF15#32
  | 6 => 0xBF3504F3#32
  | 7 => 0xBF6C835E#32
  | 8 => 0xA50D3132#32
  | 9 => 0x3F6C835E#32
  | 10 => 0x3F3504F3#32
  | 11 => 0xBEC3EF15#32
  | 12 => 0xBF800000#32
  | 13 => 0xBEC3EF15#32
  | 14 => 0x3F3504F3#32
  | 15 => 0x3F6C835E#32
  | 16 => 0x80000000#32
  | 17 => 0xBF6C835E#32
  | 18 => 0xBF3504F3#32
  | 19 => 0x3EC3EF15#32
  | 20 => 0x3F800000#32
  | 21 => 0x3EC3EF15#32
  | 22 => 0xBF3504F3#32
  | 23 => 0xBF6C835E#32
  | 24 => 0xA50D3132#32
  | 25 => 0x3F6C835E#32
  | 26 => 0x3F3504F3#32
  | 27 => 0xBEC3EF15#32
  | 28 => 0xBF800000#32
  | 29 => 0xBEC3EF15#32
  | 30 => 0x3F3504F3#32
  | 31 => 0x3F6C835E#32
  | 32 => 0x80000000#32
  | 33 => 0xBF6C835E#32
  | 34 => 0xBF3504F3#32
  | 35 => 0x3EC3EF15#32
  | 36 => 0x3F800000#32
  | 37 => 0x3EC3EF15#32
  | 38 => 0xBF3504F3#32
  | 39 => 0xBF6C835E#32
  | 40 => 0xA50D3132#32
  | 41 => 0x3F6C835E#32
  | 42 => 0x3F3504F3#32
  | 43 => 0xBEC3EF15#32
  | 44 => 0xBF800000#32
  | 45 => 0xBEC3EF15#32
  | 46 => 0x3F3504F3#32
  | 47 => 0x3F6C835E#32
  | 48 => 0x80000000#32
  | 49 => 0xBF6C835E#32
  | 50 => 0xBF3504F3#32
  | 51 => 0x3EC3EF15#32
  | 52 => 0x3F800000#32
  | 53 => 0x3EC3EF15#32
  | 54 => 0xBF3504F3#32
  | 55 => 0xBF6C835E#32
  | 56 => 0xA50D3132#32
  | 57 => 0x3F6C835E#32
  | 58 => 0x3F3504F3#32
  | 59 => 0xBEC3EF15#32
  | 60 => 0xBF800000#32
  | 61 => 0xBEC3EF15#32
  | 62 => 0x3F3504F3#32
  | 63 => 0x3F6C835E#32
  | 64 => 0x80000000#32
  | 65 => 0xBF6C835E#32
  | 66 => 0xBF3504F3#32
  | 67 => 0x3EC3EF15#32
  | 68 => 0x3F800000#32
  | 69 => 0x3EC3EF15#32
  | 70 => 0xBF3504F3#32
  | 71 => 0xBF6C835E#32
  | 72 => 0xA50D3132#32
  | 73 => 0x3F6C835E#32
  | 74 => 0x3F3504F3#32
  | 75 => 0xBEC3EF15#32
  | 76 => 0xBF800000#32
  | 77 => 0xBEC3EF15#32
  | 78 => 0x3F3504F3#32
  | 79 => 0x3F6C835E#32
  | 80 => 0x80000000#32
  | 81 => 0xBF6C835E#32
  | 82 => 0xBF3504F3#32
  | 83 => 0x3EC3EF15#32
  | 84 => 0x3F800000#32
  | 85 => 0x3EC3EF15#32
  | 86 => 0xBF3504F3#32
  | 87 => 0xBF6C835E#32
  | 88 => 0xA50D3132#32
  | 89 => 0x3F6C835E#32
  | 90 => 0x3F3504F3#32
  | 91 => 0xBEC3EF15#32
  | 92 => 0xBF800000#32
  | 93 => 0xBEC3EF15#32
  | 94 => 0x3F3504F3#32
  | 95 => 0x3F6C835E#32
  | 96 => 0x80000000#32
  | 97 => 0xBF6C835E#32
  | 98 => 0xBF3504F3#32
  | 99 => 0x3EC3EF15#32
  | 100 => 0x3F800000#32
  | 101 => 0x3EC3EF15#32
  | 102 => 0xBF3504F3#32
  | 103 => 0xBF6C835E#32
  | 104 => 0xA50D3132#32
  | 105 => 0x3F6C835E#32
  | 106 => 0x3F3504F3#32
  | 107 => 0xBEC3EF15#32
  | 108 => 0xBF800000#32
  | 109 => 0xBEC3EF15#32
  | 110 => 0x3F3504F3#32
  | 111 => 0x3F6C835E#32
  | 112 => 0x80000000#32
  | 113 => 0xBF6C835E#32
  | 114 => 0xBF3504F3#32
  | 115 => 0x3EC3EF15#32
  | 116 => 0x3F800000#32
  | 117 => 0x3EC3EF15#32
  | 118 => 0xBF3504F3#32
  | 119 => 0xBF6C835E#32
  | 120 => 0xA50D3132#32
  | 121 => 0x3F6C835E#32
  | 122 => 0x3F3504F3#32
  | 123 => 0xBEC3EF15#32
  | 124 => 0xBF800000#32
  | 125 => 0xBEC3EF15#32
  | 126 => 0x3F3504F3#32
  | 127 => 0x3F6C835E#32
  | _ => 0#32

noncomputable abbrev lit1t0_123 (i : Nat) : BitVec 32 := match i % 128 with
  | 0 => 0x80000000#32
  | 1 => 0xBF6C835E#32
  | 2 => 0xBF3504F3#32
  | 3 => 0x3EC3EF15#32
  | 4 => 0x3F800000#32
  | 5 => 0x3EC3EF15#32
  | 6 => 0xBF3504F3#32
  | 7 => 0xBF6C835E#32
  | 8 => 0xA50D3132#32
  | 9 => 0x3F6C835E#32
  | 10 => 0x3F3504F3#32
  | 11 => 0xBEC3EF15#32
  | 12 => 0xBF800000#32
  | 13 => 0xBEC3EF15#32
  | 14 => 0x3F3504F3#32
  | 15 => 0x3F6C835E#32
  | 16 => 0x80000000#32
  | 17 => 0xBF6C835E#32
  | 18 => 0xBF3504F3#32
  | 19 => 0x3EC3EF15#32
  | 20 => 0x3F800000#32
  | 21 => 0x3EC3EF15#32
  | 22 => 0xBF3504F3#32
  | 23 => 0xBF6C835E#32
  | 24 => 0xA50D3132#32
  | 25 => 0x3F6C835E#32
  | 26 => 0x3F3504F3#32
  | 27 => 0xBEC3EF15#32
  | 28 => 0xBF800000#32
  | 29 => 0xBEC3EF15#32
  | 30 => 0x3F3504F3#32
  | 31 => 0x3F6C835E#32
  | 32 => 0x80000000#32
  | 33 => 0xBF6C835E#32
  | 34 => 0xBF3504F3#32
  | 35 => 0x3EC3EF15#32
  | 36 => 0x3F800000#32
  | 37 => 0x3EC3EF15#32
  | 38 => 0xBF3504F3#32
  | 39 => 0xBF6C835E#32
  | 40 => 0xA50D3132#32
  | 41 => 0x3F6C835E#32
  | 42 => 0x3F3504F3#32
  | 43 => 0xBEC3EF15#32
  | 44 => 0xBF800000#32
  | 45 => 0xBEC3EF15#32
  | 46 => 0x3F3504F3#32
  | 47 => 0x3F6C835E#32
  | 48 => 0x80000000#32
  | 49 => 0xBF6C835E#32
  | 50 => 0xBF3504F3#32
  | 51 => 0x3EC3EF15#32
  | 52 => 0x3F800000#32
  | 53 => 0x3EC3EF15#32
  | 54 => 0xBF3504F3#32
  | 55 => 0xBF6C835E#32
  | 56 => 0xA50D3132#32
  | 57 => 0x3F6C835E#32
  | 58 => 0x3F3504F3#32
  | 59 => 0xBEC3EF15#32
  | 60 => 0xBF800000#32
  | 61 => 0xBEC3EF15#32
  | 62 => 0x3F3504F3#32
  | 63 => 0x3F6C835E#32
  | 64 => 0x80000000#32
  | 65 => 0xBF6C835E#32
  | 66 => 0xBF3504F3#32
  | 67 => 0x3EC3EF15#32
  | 68 => 0x3F800000#32
  | 69 => 0x3EC3EF15#32
  | 70 => 0xBF3504F3#32
  | 71 => 0xBF6C835E#32
  | 72 => 0xA50D3132#32
  | 73 => 0x3F6C835E#32
  | 74 => 0x3F3504F3#32
  | 75 => 0xBEC3EF15#32
  | 76 => 0xBF800000#32
  | 77 => 0xBEC3EF15#32
  | 78 => 0x3F3504F3#32
  | 79 => 0x3F6C835E#32
  | 80 => 0x80000000#32
  | 81 => 0xBF6C835E#32
  | 82 => 0xBF3504F3#32
  | 83 => 0x3EC3EF15#32
  | 84 => 0x3F800000#32
  | 85 => 0x3EC3EF15#32
  | 86 => 0xBF3504F3#32
  | 87 => 0xBF6C835E#32
  | 88 => 0xA50D3132#32
  | 89 => 0x3F6C835E#32
  | 90 => 0x3F3504F3#32
  | 91 => 0xBEC3EF15#32
  | 92 => 0xBF800000#32
  | 93 => 0xBEC3EF15#32
  | 94 => 0x3F3504F3#32
  | 95 => 0x3F6C835E#32
  | 96 => 0x80000000#32
  | 97 => 0xBF6E9811#32
  | 98 => 0xBF2CF37B#32
  | 99 => 0x3EE273AA#32
  | 100 => 0x3F7F069E#32
  | 101 => 0x3E8F45C0#32
  | 102 => 0xBF4B1934#32
  | 103 => 0xBF5ADB81#32
  | 104 => 0x3E31D0D4#32
  | 105 => 0x3F7B14BE#32
  | 106 => 0x3F098C78#32
  | 107 => 0xBF176012#32
  | 108 => 0xBF7746EA#32
  | 109 => 0xBDDEF599#32
  | 110 => 0x3F631324#32
  | 111 => 0x3F407893#32
  | 112 => 0xBEAF1D44#32
  | 113 => 0xBF7FF067#32
  | 114 => 0xBEC3EF15#32
  | 115 => 0x3F38ECD8#32
  | 116 => 0x3F6803CA#32
  | 117 => 0xBD85F213#32
  | 118 => 0xBF7426CB#32
  | 119 => 0xBF203C85#32
  | 120 => 0x3F000000#32
  | 121 => 0x3F7D0543#32
  | 122 => 0x3E5DA259#32
  | 123 => 0xBF54DB31#32
  | 124 => 0xBF51B3F3#32
  | 125 => 0x3E7363EE#32
  | 126 => 0x3F7DCF55#32
  | 127 => 0x3EF64429#32
  | _ => 0#32

noncomputable abbrev lit1t0_124 (i : Nat) : BitVec 32 := match i % 128 with
  | 0 => 0xBF248DBB#32
  | 1 => 0xBF726A03#32
  | 2 => 0xBD32AA3E#32
  | 3 => 0x3F6A51DA#32
  | 4 => 0x3F3504F3#32
  | 5 => 0xBECE34D0#32
  | 6 => 0xBF7FC1A0#32
  | 7 => 0xBEA493B7#32
  | 8 => 0x3F441B7D#32
  | 9 => 0x3F60712A#32
  | 10 => 0xBE05A8A8#32
  | 11 => 0xBF78A9E0#32
  | 12 => 0xBF12D5E8#32
  | 13 => 0x3F0E39DA#32
  | 14 => 0x3F79EE89#32
  | 15 => 0x3E1BC63C#32
  | 16 => 0xBF5DB3D7#32
  | 17 => 0xBF47A682#32
  | 18 => 0x3E99F61C#32
  | 19 => 0x3F7F73AF#32
  | 20 => 0x3ED8616C#32
  | 21 => 0xBF310700#32
  | 22 => 0xBF6C835E#32
  | 23 => 0x3CB2B521#32
  | 24 => 0x3F708FB2#32
  | 25 => 0x3F28CAE3#32
  | 26 => 0xBEEC6A50#32
  | 27 => 0xBF7E7A7A#32
  | 28 => 0xBE8483EE#32
  | 29 => 0x3F4E7327#32
  | 30 => 0x3F57E880#32
  | 31 => 0xBE47C5C2#32
  | 32 => 0xBF7C1C5C#32
  | 33 => 0xBF04CE53#32
  | 34 => 0x3F1BD7CA#32
  | 35 => 0x3F75C5D4#32
  | 36 => 0x3DB27EB6#32
  | 37 => 0xBF659974#32
  | 38 => 0xBF3CBE35#32
  | 39 => 0x3EB9917B#32
  | 40 => 0x3F800000#32
  | 41 => 0x3EB9917B#32
  | 42 => 0xBF3CBE35#32
  | 43 => 0xBF659974#32
  | 44 => 0x3DB27EB6#32
  | 45 => 0x3F75C5D4#32
  | 46 => 0x3F1BD7CA#32
  | 47 => 0xBF04CE53#32
  | 48 => 0xBF7C1C5C#32
  | 49 => 0xBE47C5C2#32
  | 50 => 0x3F57E880#32
  | 51 => 0x3F4E7327#32
  | 52 => 0xBE8483EE#32
  | 53 => 0xBF7E7A7A#32
  | 54 => 0xBEEC6A50#32
  | 55 => 0x3F28CAE3#32
  | 56 => 0x3F708FB2#32
  | 57 => 0x3CB2B521#32
  | 58 => 0xBF6C835E#32
  | 59 => 0xBF310700#32
  | 60 => 0x3ED8616C#32
  | 61 => 0x3F7F73AF#32
  | 62 => 0x3E99F61C#32
  | 63 => 0xBF47A682#32
  | 64 => 0xBF5DB3D7#32
  | 65 => 0x3E1BC63C#32
  | 66 => 0x3F79EE89#32
  | 67 => 0x3F0E39DA#32
  | 68 => 0xBF12D5E8#32
  | 69 => 0xBF78A9E0#32
  | 70 => 0xBE05A8A8#32
  | 71 => 0x3F60712A#32
  | 72 => 0x3F441B7D#32
  | 73 => 0xBEA493B7#32
  | 74 => 0xBF7FC1A0#32
  | 75 => 0xBECE34D0#32
  | 76 => 0x3F3504F3#32
  | 77 => 0x3F6A51DA#32
  | 78 => 0xBD32AA3E#32
  | 79 => 0xBF726A03#32
  | 80 => 0xBF248DBB#32
  | 81 => 0x3EF64429#32
  | 82 => 0x3F7DCF55#32
  | 83 => 0x3E7363EE#32
  | 84 => 0xBF51B3F3#32
  | 85 => 0xBF54DB31#32
  | 86 => 0x3E5DA259#32
  | 87 => 0x3F7D0543#32
  | 88 => 0x3F000000#32
  | 89 => 0xBF203C85#32
  | 90 => 0xBF7426CB#32
  | 91 => 0xBD85F213#32
  | 92 => 0x3F6803CA#32
  | 93 => 0x3F38ECD8#32
  | 94 => 0xBEC3EF15#32
  | 95 => 0xBF7FF067#32
  | 96 => 0xBEAF1D44#32
  | 97 => 0x3F407893#32
  | 98 => 0x3F631324#32
  | 99 => 0xBDDEF599#32
  | 100 => 0xBF7746EA#32
  | 101 => 0xBF176012#32
  | 102 => 0x3F098C78#32
  | 103 => 0x3F7B14BE#32
  | 104 => 0x3E31D0D4#32
  | 105 => 0xBF5ADB81#32
  | 106 => 0xBF4B1934#32
  | 107 => 0x3E8F45C0#32
  | 108 => 0x3F7F069E#32
  | 109 => 0x3EE273AA#32
  | 110 => 0xBF2CF37B#32
  | 111 => 0xBF6E9811#32
  | 112 => 0xA50D3132#32
  | 113 => 0x3F6E9811#32
  | 114 => 0x3F2CF37B#32
  | 115 => 0xBEE273AA#32
  | 116 => 0xBF7F069E#32
  | 117 => 0xBE8F45C0#32
  | 118 => 0x3F4B1934#32
  | 119 => 0x3F5ADB81#32
  | 120 => 0xBE31D0D4#32
  | 121 => 0xBF7B14BE#32
  | 122 => 0xBF098C78#32
  | 123 => 0x3F176012#32
  | 124 => 0x3F7746EA#32
  | 125 => 0x3DDEF599#32
  | 126 => 0xBF631324#32
  | 127 => 0xBF407893#32
  | _ => 0#32

noncomputable abbrev lit1t0_125 (i : Nat) : BitVec 32 := match i % 128 with
  | 0 => 0x3EAF1D44#32
  | 1 => 0x3F7FF067#32
  | 2 => 0x3EC3EF15#32
  | 3 => 0xBF38ECD8#32
  | 4 => 0xBF6803CA#32
  | 5 => 0x3D85F213#32
  | 6 => 0x3F7426CB#32
  | 7 => 0x3F203C85#32
  | 8 => 0xBF000000#32
  | 9 => 0xBF7D0543#32
  | 10 => 0xBE5DA259#32
  | 11 => 0x3F54DB31#32
  | 12 => 0x3F51B3F3#32
  | 13 => 0xBE7363EE#32
  | 14 => 0xBF7DCF55#32
  | 15 => 0xBEF64429#32
  | 16 => 0x3F248DBB#32
  | 17 => 0x3F726A03#32
  | 18 => 0x3D32AA3E#32
  | 19 => 0xBF6A51DA#32
  | 20 => 0xBF3504F3#32
  | 21 => 0x3ECE34D0#32
  | 22 => 0x3F7FC1A0#32
  | 23 => 0x3EA493B7#32
  | 24 => 0xBF441B7D#32
  | 25 => 0xBF60712A#32
  | 26 => 0x3E05A8A8#32
  | 27 => 0x3F78A9E0#32
  | 28 => 0x3F12D5E8#32
  | 29 => 0xBF0E39DA#32
  | 30 => 0xBF79EE89#32
  | 31 => 0xBE1BC63C#32
  | 32 => 0x3F5DB3D7#32
  | 33 => 0x3F47A682#32
  | 34 => 0xBE99F61C#32
  | 35 => 0xBF7F73AF#32
  | 36 => 0xBED8616C#32
  | 37 => 0x3F310700#32
  | 38 => 0x3F6C835E#32
  | 39 => 0xBCB2B521#32
  | 40 => 0xBF708FB2#32
  | 41 => 0xBF28CAE3#32
  | 42 => 0x3EEC6A50#32
  | 43 => 0x3F7E7A7A#32
  | 44 => 0x3E8483EE#32
  | 45 => 0xBF4E7327#32
  | 46 => 0xBF57E880#32
  | 47 => 0x3E47C5C2#32
  | 48 => 0x3F7C1C5C#32
  | 49 => 0x3F04CE53#32
  | 50 => 0xBF1BD7CA#32
  | 51 => 0xBF75C5D4#32
  | 52 => 0xBDB27EB6#32
  | 53 => 0x3F659974#32
  | 54 => 0x3F3CBE35#32
  | 55 => 0xBEB9917B#32
  | 56 => 0xBF800000#32
  | 57 => 0xBEB9917B#32
  | 58 => 0x3F3CBE35#32
  | 59 => 0x3F659974#32
  | 60 => 0xBDB27EB6#32
  | 61 => 0xBF75C5D4#32
  | 62 => 0xBF1BD7CA#32
  | 63 => 0x3F04CE53#32
  | 64 => 0x3F7C1C5C#32
  | 65 => 0x3E47C5C2#32
  | 66 => 0xBF57E880#32
  | 67 => 0xBF4E7327#32
  | 68 => 0x3E8483EE#32
  | 69 => 0x3F7E7A7A#32
  | 70 => 0x3EEC6A50#32
  | 71 => 0xBF28CAE3#32
  | 72 => 0xBF708FB2#32
  | 73 => 0xBCB2B521#32
  | 74 => 0x3F6C835E#32
  | 75 => 0x3F310700#32
  | 76 => 0xBED8616C#32
  | 77 => 0xBF7F73AF#32
  | 78 => 0xBE99F61C#32
  | 79 => 0x3F47A682#32
  | 80 => 0x3F5DB3D7#32
  | 81 => 0xBE1BC63C#32
  | 82 => 0xBF79EE89#32
  | 83 => 0xBF0E39DA#32
  | 84 => 0x3F12D5E8#32
  | 85 => 0x3F78A9E0#32
  | 86 => 0x3E05A8A8#32
  | 87 => 0xBF60712A#32
  | 88 => 0xBF441B7D#32
  | 89 => 0x3EA493B7#32
  | 90 => 0x3F7FC1A0#32
  | 91 => 0x3ECE34D0#32
  | 92 => 0xBF3504F3#32
  | 93 => 0xBF6A51DA#32
  | 94 => 0x3D32AA3E#32
  | 95 => 0x3F726A03#32
  | 96 => 0x3F248DBB#32
  | 97 => 0xBEF64429#32
  | 98 => 0xBF7DCF55#32
  | 99 => 0xBE7363EE#32
  | 100 => 0x3F51B3F3#32
  | 101 => 0x3F54DB31#32
  | 102 => 0xBE5DA259#32
  | 103 => 0xBF7D0543#32
  | 104 => 0xBF000000#32
  | 105 => 0x3F203C85#32
  | 106 => 0x3F7426CB#32
  | 107 => 0x3D85F213#32
  | 108 => 0xBF6803CA#32
  | 109 => 0xBF38ECD8#32
  | 110 => 0x3EC3EF15#32
  | 111 => 0x3F7FF067#32
  | 112 => 0x3EAF1D44#32
  | 113 => 0xBF407893#32
  | 114 => 0xBF631324#32
  | 115 => 0x3DDEF599#32
  | 116 => 0x3F7746EA#32
  | 117 => 0x3F176012#32
  | 118 => 0xBF098C78#32
  | 119 => 0xBF7B14BE#32
  | 120 => 0xBE31D0D4#32
  | 121 => 0x3F5ADB81#32
  | 122 => 0x3F4B1934#32
  | 123 => 0xBE8F45C0#32
  | 124 => 0xBF7F069E#32
  | 125 => 0xBEE273AA#32
  | 126 => 0x3F2CF37B#32
  | 127 => 0x3F6E9811#32
  | _ => 0#32

noncomputable abbrev lit1t0_126 (i : Nat) : BitVec 32 := match i % 128 with
  | 0 => 0x80000000#32
  | 1 => 0xBF708FB2#32
  | 2 => 0xBF248DBB#32
  | 3 => 0x3F000000#32
  | 4 => 0x3F7C1C5C#32
  | 5 => 0x3E31D0D4#32
  | 6 => 0xBF5DB3D7#32
  | 7 => 0xBF441B7D#32
  | 8 => 0x3EAF1D44#32
  | 9 => 0x3F800000#32
  | 10 => 0x3EAF1D44#32
  | 11 => 0xBF441B7D#32
  | 12 => 0xBF5DB3D7#32
  | 13 => 0x3E31D0D4#32
  | 14 => 0x3F7C1C5C#32
  | 15 => 0x3F000000#32
  | 16 => 0xBF248DBB#32
  | 17 => 0xBF708FB2#32
  | 18 => 0xA50D3132#32
  | 19 => 0x3F708FB2#32
  | 20 => 0x3F248DBB#32
  | 21 => 0xBF000000#32
  | 22 => 0xBF7C1C5C#32
  | 23 => 0xBE31D0D4#32
  | 24 => 0x3F5DB3D7#32
  | 25 => 0x3F441B7D#32
  | 26 => 0xBEAF1D44#32
  | 27 => 0xBF800000#32
  | 28 => 0xBEAF1D44#32
  | 29 => 0x3F441B7D#32
  | 30 => 0x3F5DB3D7#32
  | 31 => 0xBE31D0D4#32
  | 32 => 0xBF7C1C5C#32
  | 33 => 0xBF000000#32
  | 34 => 0x3F248DBB#32
  | 35 => 0x3F708FB2#32
  | 36 => 0x80000000#32
  | 37 => 0xBF708FB2#32
  | 38 => 0xBF248DBB#32
  | 39 => 0x3F000000#32
  | 40 => 0x3F7C1C5C#32
  | 41 => 0x3E31D0D4#32
  | 42 => 0xBF5DB3D7#32
  | 43 => 0xBF441B7D#32
  | 44 => 0x3EAF1D44#32
  | 45 => 0x3F800000#32
  | 46 => 0x3EAF1D44#32
  | 47 => 0xBF441B7D#32
  | 48 => 0xBF5DB3D7#32
  | 49 => 0x3E31D0D4#32
  | 50 => 0x3F7C1C5C#32
  | 51 => 0x3F000000#32
  | 52 => 0xBF248DBB#32
  | 53 => 0xBF708FB2#32
  | 54 => 0xA50D3132#32
  | 55 => 0x3F708FB2#32
  | 56 => 0x3F248DBB#32
  | 57 => 0xBF000000#32
  | 58 => 0xBF7C1C5C#32
  | 59 => 0xBE31D0D4#32
  | 60 => 0x3F5DB3D7#32
  | 61 => 0x3F441B7D#32
  | 62 => 0xBEAF1D44#32
  | 63 => 0xBF800000#32
  | 64 => 0xBEAF1D44#32
  | 65 => 0x3F441B7D#32
  | 66 => 0x3F5DB3D7#32
  | 67 => 0xBE31D0D4#32
  | 68 => 0xBF7C1C5C#32
  | 69 => 0xBF000000#32
  | 70 => 0x3F248DBB#32
  | 71 => 0x3F708FB2#32
  | 72 => 0x80000000#32
  | 73 => 0xBF708FB2#32
  | 74 => 0xBF248DBB#32
  | 75 => 0x3F000000#32
  | 76 => 0x3F7C1C5C#32
  | 77 => 0x3E31D0D4#32
  | 78 => 0xBF5DB3D7#32
  | 79 => 0xBF441B7D#32
  | 80 => 0x3EAF1D44#32
  | 81 => 0x3F800000#32
  | 82 => 0x3EAF1D44#32
  | 83 => 0xBF441B7D#32
  | 84 => 0xBF5DB3D7#32
  | 85 => 0x3E31D0D4#32
  | 86 => 0x3F7C1C5C#32
  | 87 => 0x3F000000#32
  | 88 => 0xBF248DBB#32
  | 89 => 0xBF708FB2#32
  | 90 => 0xA50D3132#32
  | 91 => 0x3F708FB2#32
  | 92 => 0x3F248DBB#32
  | 93 => 0xBF000000#32
  | 94 => 0xBF7C1C5C#32
  | 95 => 0xBE31D0D4#32
  | 96 => 0x3F5DB3D7#32
  | 97 => 0x3F441B7D#32
  | 98 => 0xBEAF1D44#32
  | 99 => 0xBF800000#32
  | 100 => 0xBEAF1D44#32
  | 101 => 0x3F441B7D#32
  | 102 => 0x3F5DB3D7#32
  | 103 => 0xBE31D0D4#32
  | 104 => 0xBF7C1C5C#32
  | 105 => 0xBF000000#32
  | 106 => 0x3F248DBB#32
  | 107 => 0x3F708FB2#32
  | 108 => 0x80000000#32
  | 109 => 0xBF708FB2#32
  | 110 => 0xBF248DBB#32
  | 111 => 0x3F000000#32
  | 112 => 0x3F7C1C5C#32
  | 113 => 0x3E31D0D4#32
  | 114 => 0xBF5DB3D7#32
  | 115 => 0xBF441B7D#32
  | 116 => 0x3EAF1D44#32
  | 117 => 0x3F800000#32
  | 118 => 0x3EAF1D44#32
  | 119 => 0xBF441B7D#32
  | 120 => 0xBF5DB3D7#32
  | 121 => 0x3E31D0D4#32
  | 122 => 0x3F7C1C5C#32
  | 123 => 0x3F000000#32
  | 124 => 0xBF248DBB#32
  | 125 => 0xBF708FB2#32
  | 126 => 0xA50D3132#32
  | 127 => 0x3F708FB2#32
  | _ => 0#32

noncomputable abbrev lit1t0_127 (i : Nat) : BitVec 32 := match i % 128 with
  | 0 => 0x3F248DBB#32
  | 1 => 0xBF000000#32
  | 2 => 0xBF7C1C5C#32
  | 3 => 0xBE31D0D4#32
  | 4 => 0x3F5DB3D7#32
  | 5 => 0x3F441B7D#32
  | 6 => 0xBEAF1D44#32
  | 7 => 0xBF800000#32
  | 8 => 0xBEAF1D44#32
  | 9 => 0x3F441B7D#32
  | 10 => 0x3F5DB3D7#32
  | 11 => 0xBE31D0D4#32
  | 12 => 0xBF7C1C5C#32
  | 13 => 0xBF000000#32
  | 14 => 0x3F248DBB#32
  | 15 => 0x3F708FB2#32
  | 16 => 0x80000000#32
  | 17 => 0xBF708FB2#32
  | 18 => 0xBF248DBB#32
  | 19 => 0x3F000000#32
  | 20 => 0x3F7C1C5C#32
  | 21 => 0x3E31D0D4#32
  | 22 => 0xBF5DB3D7#32
  | 23 => 0xBF441B7D#32
  | 24 => 0x3EAF1D44#32
  | 25 => 0x3F800000#32
  | 26 => 0x3EAF1D44#32
  | 27 => 0xBF441B7D#32
  | 28 => 0xBF5DB3D7#32
  | 29 => 0x3E31D0D4#32
  | 30 => 0x3F7C1C5C#32
  | 31 => 0x3F000000#32
  | 32 => 0xBF248DBB#32
  | 33 => 0xBF708FB2#32
  | 34 => 0xA50D3132#32
  | 35 => 0x3F708FB2#32
  | 36 => 0x3F248DBB#32
  | 37 => 0xBF000000#32
  | 38 => 0xBF7C1C5C#32
  | 39 => 0xBE31D0D4#32
  | 40 => 0x3F5DB3D7#32
  | 41 => 0x3F441B7D#32
  | 42 => 0xBEAF1D44#32
  | 43 => 0xBF800000#32
  | 44 => 0xBEAF1D44#32
  | 45 => 0x3F441B7D#32
  | 46 => 0x3F5DB3D7#32
  | 47 => 0xBE31D0D4#32
  | 48 => 0xBF7C1C5C#32
  | 49 => 0xBF000000#32
  | 50 => 0x3F248DBB#32
  | 51 => 0x3F708FB2#32
  | 52 => 0x80000000#32
  | 53 => 0xBF708FB2#32
  | 54 => 0xBF248DBB#32
  | 55 => 0x3F000000#32
  | 56 => 0x3F7C1C5C#32
  | 57 => 0x3E31D0D4#32
  | 58 => 0xBF5DB3D7#32
  | 59 => 0xBF441B7D#32
  | 60 => 0x3EAF1D44#32
  | 61 => 0x3F800000#32
  | 62 => 0x3EAF1D44#32
  | 63 => 0xBF441B7D#32
  | 64 => 0xBF5DB3D7#32
  | 65 => 0x3E31D0D4#32
  | 66 => 0x3F7C1C5C#32
  | 67 => 0x3F000000#32
  | 68 => 0xBF248DBB#32
  | 69 => 0xBF708FB2#32
  | 70 => 0xA50D3132#32
  | 71 => 0x3F708FB2#32
  | 72 => 0x3F248DBB#32
  | 73 => 0xBF000000#32
  | 74 => 0xBF7C1C5C#32
  | 75 => 0xBE31D0D4#32
  | 76 => 0x3F5DB3D7#32
  | 77 => 0x3F441B7D#32
  | 78 => 0xBEAF1D44#32
  | 79 => 0xBF800000#32
  | 80 => 0xBEAF1D44#32
  | 81 => 0x3F441B7D#32
  | 82 => 0x3F5DB3D7#32
  | 83 => 0xBE31D0D4#32
  | 84 => 0xBF7C1C5C#32
  | 85 => 0xBF000000#32
  | 86 => 0x3F248DBB#32
  | 87 => 0x3F708FB2#32
  | 88 => 0x80000000#32
  | 89 => 0xBF708FB2#32
  | 90 => 0xBF248DBB#32
  | 91 => 0x3F000000#32
  | 92 => 0x3F7C1C5C#32
  | 93 => 0x3E31D0D4#32
  | 94 => 0xBF5DB3D7#32
  | 95 => 0xBF441B7D#32
  | 96 => 0x3EAF1D44#32
  | 97 => 0x3F800000#32
  | 98 => 0x3EAF1D44#32
  | 99 => 0xBF441B7D#32
  | 100 => 0xBF5DB3D7#32
  | 101 => 0x3E31D0D4#32
  | 102 => 0x3F7C1C5C#32
  | 103 => 0x3F000000#32
  | 104 => 0xBF248DBB#32
  | 105 => 0xBF708FB2#32
  | 106 => 0xA50D3132#32
  | 107 => 0x3F708FB2#32
  | 108 => 0x3F248DBB#32
  | 109 => 0xBF000000#32
  | 110 => 0xBF7C1C5C#32
  | 111 => 0xBE31D0D4#32
  | 112 => 0x3F5DB3D7#32
  | 113 => 0x3F441B7D#32
  | 114 => 0xBEAF1D44#32
  | 115 => 0xBF800000#32
  | 116 => 0xBEAF1D44#32
  | 117 => 0x3F441B7D#32
  | 118 => 0x3F5DB3D7#32
  | 119 => 0xBE31D0D4#32
  | 120 => 0xBF7C1C5C#32
  | 121 => 0xBF000000#32
  | 122 => 0x3F248DBB#32
  | 123 => 0x3F708FB2#32
  | 124 => 0x80000000#32
  | 125 => 0xBF708FB2#32
  | 126 => 0xBF248DBB#32
  | 127 => 0x3F000000#32
  | _ => 0#32

noncomputable abbrev lit1t0_128 (i : Nat) : BitVec 32 := match i % 128 with
  | 0 => 0x3F7C1C5C#32
  | 1 => 0x3E31D0D4#32
  | 2 => 0xBF5DB3D7#32
  | 3 => 0xBF441B7D#32
  | 4 => 0x3EAF1D44#32
  | 5 => 0x3F800000#32
  | 6 => 0x3EAF1D44#32
  | 7 => 0xBF441B7D#32
  | 8 => 0xBF5DB3D7#32
  | 9 => 0x3E31D0D4#32
  | 10 => 0x3F7C1C5C#32
  | 11 => 0x3F000000#32
  | 12 => 0xBF248DBB#32
  | 13 => 0xBF708FB2#32
  | 14 => 0xA50D3132#32
  | 15 => 0x3F708FB2#32
  | 16 => 0x3F248DBB#32
  | 17 => 0xBF000000#32
  | 18 => 0xBF7C1C5C#32
  | 19 => 0xBE31D0D4#32
  | 20 => 0x3F5DB3D7#32
  | 21 => 0x3F441B7D#32
  | 22 => 0xBEAF1D44#32
  | 23 => 0xBF800000#32
  | 24 => 0xBEAF1D44#32
  | 25 => 0x3F441B7D#32
  | 26 => 0x3F5DB3D7#32
  | 27 => 0xBE31D0D4#32
  | 28 => 0xBF7C1C5C#32
  | 29 => 0xBF000000#32
  | 30 => 0x3F248DBB#32
  | 31 => 0x3F708FB2#32
  | 32 => 0x80000000#32
  | 33 => 0xBF726A03#32
  | 34 => 0xBF1BD7CA#32
  | 35 => 0x3F0E39DA#32
  | 36 => 0x3F7746EA#32
  | 37 => 0x3D85F213#32
  | 38 => 0xBF6C835E#32
  | 39 => 0xBF28CAE3#32
  | 40 => 0x3F000000#32
  | 41 => 0x3F7B14BE#32
  | 42 => 0x3E05A8A8#32
  | 43 => 0xBF659974#32
  | 44 => 0xBF3504F3#32
  | 45 => 0x3EE273AA#32
  | 46 => 0x3F7DCF55#32
  | 47 => 0x3E47C5C2#32
  | 48 => 0xBF5DB3D7#32
  | 49 => 0xBF407893#32
  | 50 => 0x3EC3EF15#32
  | 51 => 0x3F7F73AF#32
  | 52 => 0x3E8483EE#32
  | 53 => 0xBF54DB31#32
  | 54 => 0xBF4B1934#32
  | 55 => 0x3EA493B7#32
  | 56 => 0x3F800000#32
  | 57 => 0x3EA493B7#32
  | 58 => 0xBF4B1934#32
  | 59 => 0xBF54DB31#32
  | 60 => 0x3E8483EE#32
  | 61 => 0x3F7F73AF#32
  | 62 => 0x3EC3EF15#32
  | 63 => 0xBF407893#32
  | 64 => 0xBF5DB3D7#32
  | 65 => 0x3E47C5C2#32
  | 66 => 0x3F7DCF55#32
  | 67 => 0x3EE273AA#32
  | 68 => 0xBF3504F3#32
  | 69 => 0xBF659974#32
  | 70 => 0x3E05A8A8#32
  | 71 => 0x3F7B14BE#32
  | 72 => 0x3F000000#32
  | 73 => 0xBF28CAE3#32
  | 74 => 0xBF6C835E#32
  | 75 => 0x3D85F213#32
  | 76 => 0x3F7746EA#32
  | 77 => 0x3F0E39DA#32
  | 78 => 0xBF1BD7CA#32
  | 79 => 0xBF726A03#32
  | 80 => 0xA50D3132#32
  | 81 => 0x3F726A03#32
  | 82 => 0x3F1BD7CA#32
  | 83 => 0xBF0E39DA#32
  | 84 => 0xBF7746EA#32
  | 85 => 0xBD85F213#32
  | 86 => 0x3F6C835E#32
  | 87 => 0x3F28CAE3#32
  | 88 => 0xBF000000#32
  | 89 => 0xBF7B14BE#32
  | 90 => 0xBE05A8A8#32
  | 91 => 0x3F659974#32
  | 92 => 0x3F3504F3#32
  | 93 => 0xBEE273AA#32
  | 94 => 0xBF7DCF55#32
  | 95 => 0xBE47C5C2#32
  | 96 => 0x3F5DB3D7#32
  | 97 => 0x3F407893#32
  | 98 => 0xBEC3EF15#32
  | 99 => 0xBF7F73AF#32
  | 100 => 0xBE8483EE#32
  | 101 => 0x3F54DB31#32
  | 102 => 0x3F4B1934#32
  | 103 => 0xBEA493B7#32
  | 104 => 0xBF800000#32
  | 105 => 0xBEA493B7#32
  | 106 => 0x3F4B1934#32
  | 107 => 0x3F54DB31#32
  | 108 => 0xBE8483EE#32
  | 109 => 0xBF7F73AF#32
  | 110 => 0xBEC3EF15#32
  | 111 => 0x3F407893#32
  | 112 => 0x3F5DB3D7#32
  | 113 => 0xBE47C5C2#32
  | 114 => 0xBF7DCF55#32
  | 115 => 0xBEE273AA#32
  | 116 => 0x3F3504F3#32
  | 117 => 0x3F659974#32
  | 118 => 0xBE05A8A8#32
  | 119 => 0xBF7B14BE#32
  | 120 => 0xBF000000#32
  | 121 => 0x3F28CAE3#32
  | 122 => 0x3F6C835E#32
  | 123 => 0xBD85F213#32
  | 124 => 0xBF7746EA#32
  | 125 => 0xBF0E39DA#32
  | 126 => 0x3F1BD7CA#32
  | 127 => 0x3F726A03#32
  | _ => 0#32

noncomputable abbrev lit1t0_129 (i : Nat) : BitVec 32 := match i % 128 with
  | 0 => 0x80000000#32
  | 1 => 0xBF726A03#32
  | 2 => 0xBF1BD7CA#32
  | 3 => 0x3F0E39DA#32
  | 4 => 0x3F7746EA#32
  | 5 => 0x3D85F213#32
  | 6 => 0xBF6C835E#32
  | 7 => 0xBF28CAE3#32
  | 8 => 0x3F000000#32
  | 9 => 0x3F7B14BE#32
  | 10 => 0x3E05A8A8#32
  | 11 => 0xBF659974#32
  | 12 => 0xBF3504F3#32
  | 13 => 0x3EE273AA#32
  | 14 => 0x3F7DCF55#32
  | 15 => 0x3E47C5C2#32
  | 16 => 0xBF5DB3D7#32
  | 17 => 0xBF407893#32
  | 18 => 0x3EC3EF15#32
  | 19 => 0x3F7F73AF#32
  | 20 => 0x3E8483EE#32
  | 21 => 0xBF54DB31#32
  | 22 => 0xBF4B1934#32
  | 23 => 0x3EA493B7#32
  | 24 => 0x3F800000#32
  | 25 => 0x3EA493B7#32
  | 26 => 0xBF4B1934#32
  | 27 => 0xBF54DB31#32
  | 28 => 0x3E8483EE#32
  | 29 => 0x3F7F73AF#32
  | 30 => 0x3EC3EF15#32
  | 31 => 0xBF407893#32
  | 32 => 0xBF5DB3D7#32
  | 33 => 0x3E47C5C2#32
  | 34 => 0x3F7DCF55#32
  | 35 => 0x3EE273AA#32
  | 36 => 0xBF3504F3#32
  | 37 => 0xBF659974#32
  | 38 => 0x3E05A8A8#32
  | 39 => 0x3F7B14BE#32
  | 40 => 0x3F000000#32
  | 41 => 0xBF28CAE3#32
  | 42 => 0xBF6C835E#32
  | 43 => 0x3D85F213#32
  | 44 => 0x3F7746EA#32
  | 45 => 0x3F0E39DA#32
  | 46 => 0xBF1BD7CA#32
  | 47 => 0xBF726A03#32
  | 48 => 0xA50D3132#32
  | 49 => 0x3F726A03#32
  | 50 => 0x3F1BD7CA#32
  | 51 => 0xBF0E39DA#32
  | 52 => 0xBF7746EA#32
  | 53 => 0xBD85F213#32
  | 54 => 0x3F6C835E#32
  | 55 => 0x3F28CAE3#32
  | 56 => 0xBF000000#32
  | 57 => 0xBF7B14BE#32
  | 58 => 0xBE05A8A8#32
  | 59 => 0x3F659974#32
  | 60 => 0x3F3504F3#32
  | 61 => 0xBEE273AA#32
  | 62 => 0xBF7DCF55#32
  | 63 => 0xBE47C5C2#32
  | 64 => 0x3F5DB3D7#32
  | 65 => 0x3F407893#32
  | 66 => 0xBEC3EF15#32
  | 67 => 0xBF7F73AF#32
  | 68 => 0xBE8483EE#32
  | 69 => 0x3F54DB31#32
  | 70 => 0x3F4B1934#32
  | 71 => 0xBEA493B7#32
  | 72 => 0xBF800000#32
  | 73 => 0xBEA493B7#32
  | 74 => 0x3F4B1934#32
  | 75 => 0x3F54DB31#32
  | 76 => 0xBE8483EE#32
  | 77 => 0xBF7F73AF#32
  | 78 => 0xBEC3EF15#32
  | 79 => 0x3F407893#32
  | 80 => 0x3F5DB3D7#32
  | 81 => 0xBE47C5C2#32
  | 82 => 0xBF7DCF55#32
  | 83 => 0xBEE273AA#32
  | 84 => 0x3F3504F3#32
  | 85 => 0x3F659974#32
  | 86 => 0xBE05A8A8#32
  | 87 => 0xBF7B14BE#32
  | 88 => 0xBF000000#32
  | 89 => 0x3F28CAE3#32
  | 90 => 0x3F6C835E#32
  | 91 => 0xBD85F213#32
  | 92 => 0xBF7746EA#32
  | 93 => 0xBF0E39DA#32
  | 94 => 0x3F1BD7CA#32
  | 95 => 0x3F726A03#32
  | 96 => 0x80000000#32
  | 97 => 0xBF726A03#32
  | 98 => 0xBF1BD7CA#32
  | 99 => 0x3F0E39DA#32
  | 100 => 0x3F7746EA#32
  | 101 => 0x3D85F213#32
  | 102 => 0xBF6C835E#32
  | 103 => 0xBF28CAE3#32
  | 104 => 0x3F000000#32
  | 105 => 0x3F7B14BE#32
  | 106 => 0x3E05A8A8#32
  | 107 => 0xBF659974#32
  | 108 => 0xBF3504F3#32
  | 109 => 0x3EE273AA#32
  | 110 => 0x3F7DCF55#32
  | 111 => 0x3E47C5C2#32
  | 112 => 0xBF5DB3D7#32
  | 113 => 0xBF407893#32
  | 114 => 0x3EC3EF15#32
  | 115 => 0x3F7F73AF#32
  | 116 => 0x3E8483EE#32
  | 117 => 0xBF54DB31#32
  | 118 => 0xBF4B1934#32
  | 119 => 0x3EA493B7#32
  | 120 => 0x3F800000#32
  | 121 => 0x3EA493B7#32
  | 122 => 0xBF4B1934#32
  | 123 => 0xBF54DB31#32
  | 124 => 0x3E8483EE#32
  | 125 => 0x3F7F73AF#32
  | 126 => 0x3EC3EF15#32
  | 127 => 0xBF407893#32
  | _ => 0#32

noncomputable abbrev lit1t0_130 (i : Nat) : BitVec 32 := match i % 128 with
  | 0 => 0xBF5DB3D7#32
  | 1 => 0x3E47C5C2#32
  | 2 => 0x3F7DCF55#32
  | 3 => 0x3EE273AA#32
  | 4 => 0xBF3504F3#32
  | 5 => 0xBF659974#32
  | 6 => 0x3E05A8A8#32
  | 7 => 0x3F7B14BE#32
  | 8 => 0x3F000000#32
  | 9 => 0xBF28CAE3#32
  | 10 => 0xBF6C835E#32
  | 11 => 0x3D85F213#32
  | 12 => 0x3F7746EA#32
  | 13 => 0x3F0E39DA#32
  | 14 => 0xBF1BD7CA#32
  | 15 => 0xBF726A03#32
  | 16 => 0xA50D3132#32
  | 17 => 0x3F726A03#32
  | 18 => 0x3F1BD7CA#32
  | 19 => 0xBF0E39DA#32
  | 20 => 0xBF7746EA#32
  | 21 => 0xBD85F213#32
  | 22 => 0x3F6C835E#32
  | 23 => 0x3F28CAE3#32
  | 24 => 0xBF000000#32
  | 25 => 0xBF7B14BE#32
  | 26 => 0xBE05A8A8#32
  | 27 => 0x3F659974#32
  | 28 => 0x3F3504F3#32
  | 29 => 0xBEE273AA#32
  | 30 => 0xBF7DCF55#32
  | 31 => 0xBE47C5C2#32
  | 32 => 0x3F5DB3D7#32
  | 33 => 0x3F407893#32
  | 34 => 0xBEC3EF15#32
  | 35 => 0xBF7F73AF#32
  | 36 => 0xBE8483EE#32
  | 37 => 0x3F54DB31#32
  | 38 => 0x3F4B1934#32
  | 39 => 0xBEA493B7#32
  | 40 => 0xBF800000#32
  | 41 => 0xBEA493B7#32
  | 42 => 0x3F4B1934#32
  | 43 => 0x3F54DB31#32
  | 44 => 0xBE8483EE#32
  | 45 => 0xBF7F73AF#32
  | 46 => 0xBEC3EF15#32
  | 47 => 0x3F407893#32
  | 48 => 0x3F5DB3D7#32
  | 49 => 0xBE47C5C2#32
  | 50 => 0xBF7DCF55#32
  | 51 => 0xBEE273AA#32
  | 52 => 0x3F3504F3#32
  | 53 => 0x3F659974#32
  | 54 => 0xBE05A8A8#32
  | 55 => 0xBF7B14BE#32
  | 56 => 0xBF000000#32
  | 57 => 0x3F28CAE3#32
  | 58 => 0x3F6C835E#32
  | 59 => 0xBD85F213#32
  | 60 => 0xBF7746EA#32
  | 61 => 0xBF0E39DA#32
  | 62 => 0x3F1BD7CA#32
  | 63 => 0x3F726A03#32
  | 64 => 0x80000000#32
  | 65 => 0xBF7426CB#32
  | 66 => 0xBF12D5E8#32
  | 67 => 0x3F1BD7CA#32
  | 68 => 0x3F708FB2#32
  | 69 => 0xBD32AA3E#32
  | 70 => 0xBF7746EA#32
  | 71 => 0xBF098C78#32
  | 72 => 0x3F248DBB#32
  | 73 => 0x3F6C835E#32
  | 74 => 0xBDB27EB6#32
  | 75 => 0xBF79EE89#32
  | 76 => 0xBF000000#32
  | 77 => 0x3F2CF37B#32
  | 78 => 0x3F6803CA#32
  | 79 => 0xBE05A8A8#32
  | 80 => 0xBF7C1C5C#32
  | 81 => 0xBEEC6A50#32
  | 82 => 0x3F3504F3#32
  | 83 => 0x3F631324#32
  | 84 => 0xBE31D0D4#32
  | 85 => 0xBF7DCF55#32
  | 86 => 0xBED8616C#32
  | 87 => 0x3F3CBE35#32
  | 88 => 0x3F5DB3D7#32
  | 89 => 0xBE5DA259#32
  | 90 => 0xBF7F069E#32
  | 91 => 0xBEC3EF15#32
  | 92 => 0x3F441B7D#32
  | 93 => 0x3F57E880#32
  | 94 => 0xBE8483EE#32
  | 95 => 0xBF7FC1A0#32
  | 96 => 0xBEAF1D44#32
  | 97 => 0x3F4B1934#32
  | 98 => 0x3F51B3F3#32
  | 99 => 0xBE99F61C#32
  | 100 => 0xBF800000#32
  | 101 => 0xBE99F61C#32
  | 102 => 0x3F51B3F3#32
  | 103 => 0x3F4B1934#32
  | 104 => 0xBEAF1D44#32
  | 105 => 0xBF7FC1A0#32
  | 106 => 0xBE8483EE#32
  | 107 => 0x3F57E880#32
  | 108 => 0x3F441B7D#32
  | 109 => 0xBEC3EF15#32
  | 110 => 0xBF7F069E#32
  | 111 => 0xBE5DA259#32
  | 112 => 0x3F5DB3D7#32
  | 113 => 0x3F3CBE35#32
  | 114 => 0xBED8616C#32
  | 115 => 0xBF7DCF55#32
  | 116 => 0xBE31D0D4#32
  | 117 => 0x3F631324#32
  | 118 => 0x3F3504F3#32
  | 119 => 0xBEEC6A50#32
  | 120 => 0xBF7C1C5C#32
  | 121 => 0xBE05A8A8#32
  | 122 => 0x3F6803CA#32
  | 123 => 0x3F2CF37B#32
  | 124 => 0xBF000000#32
  | 125 => 0xBF79EE89#32
  | 126 => 0xBDB27EB6#32
  | 127 => 0x3F6C835E#32
  | _ => 0#32

noncomputable abbrev lit1t0_131 (i : Nat) : BitVec 32 := match i % 128 with
  | 0 => 0x3F248DBB#32
  | 1 => 0xBF098C78#32
  | 2 => 0xBF7746EA#32
  | 3 => 0xBD32AA3E#32
  | 4 => 0x3F708FB2#32
  | 5 => 0x3F1BD7CA#32
  | 6 => 0xBF12D5E8#32
  | 7 => 0xBF7426CB#32
  | 8 => 0xA50D3132#32
  | 9 => 0x3F7426CB#32
  | 10 => 0x3F12D5E8#32
  | 11 => 0xBF1BD7CA#32
  | 12 => 0xBF708FB2#32
  | 13 => 0x3D32AA3E#32
  | 14 => 0x3F7746EA#32
  | 15 => 0x3F098C78#32
  | 16 => 0xBF248DBB#32
  | 17 => 0xBF6C835E#32
  | 18 => 0x3DB27EB6#32
  | 19 => 0x3F79EE89#32
  | 20 => 0x3F000000#32
  | 21 => 0xBF2CF37B#32
  | 22 => 0xBF6803CA#32
  | 23 => 0x3E05A8A8#32
  | 24 => 0x3F7C1C5C#32
  | 25 => 0x3EEC6A50#32
  | 26 => 0xBF3504F3#32
  | 27 => 0xBF631324#32
  | 28 => 0x3E31D0D4#32
  | 29 => 0x3F7DCF55#32
  | 30 => 0x3ED8616C#32
  | 31 => 0xBF3CBE35#32
  | 32 => 0xBF5DB3D7#32
  | 33 => 0x3E5DA259#32
  | 34 => 0x3F7F069E#32
  | 35 => 0x3EC3EF15#32
  | 36 => 0xBF441B7D#32
  | 37 => 0xBF57E880#32
  | 38 => 0x3E8483EE#32
  | 39 => 0x3F7FC1A0#32
  | 40 => 0x3EAF1D44#32
  | 41 => 0xBF4B1934#32
  | 42 => 0xBF51B3F3#32
  | 43 => 0x3E99F61C#32
  | 44 => 0x3F800000#32
  | 45 => 0x3E99F61C#32
  | 46 => 0xBF51B3F3#32
  | 47 => 0xBF4B1934#32
  | 48 => 0x3EAF1D44#32
  | 49 => 0x3F7FC1A0#32
  | 50 => 0x3E8483EE#32
  | 51 => 0xBF57E880#32
  | 52 => 0xBF441B7D#32
  | 53 => 0x3EC3EF15#32
  | 54 => 0x3F7F069E#32
  | 55 => 0x3E5DA259#32
  | 56 => 0xBF5DB3D7#32
  | 57 => 0xBF3CBE35#32
  | 58 => 0x3ED8616C#32
  | 59 => 0x3F7DCF55#32
  | 60 => 0x3E31D0D4#32
  | 61 => 0xBF631324#32
  | 62 => 0xBF3504F3#32
  | 63 => 0x3EEC6A50#32
  | 64 => 0x3F7C1C5C#32
  | 65 => 0x3E05A8A8#32
  | 66 => 0xBF6803CA#32
  | 67 => 0xBF2CF37B#32
  | 68 => 0x3F000000#32
  | 69 => 0x3F79EE89#32
  | 70 => 0x3DB27EB6#32
  | 71 => 0xBF6C835E#32
  | 72 => 0xBF248DBB#32
  | 73 => 0x3F098C78#32
  | 74 => 0x3F7746EA#32
  | 75 => 0x3D32AA3E#32
  | 76 => 0xBF708FB2#32
  | 77 => 0xBF1BD7CA#32
  | 78 => 0x3F12D5E8#32
  | 79 => 0x3F7426CB#32
  | 80 => 0x80000000#32
  | 81 => 0xBF7426CB#32
  | 82 => 0xBF12D5E8#32
  | 83 => 0x3F1BD7CA#32
  | 84 => 0x3F708FB2#32
  | 85 => 0xBD32AA3E#32
  | 86 => 0xBF7746EA#32
  | 87 => 0xBF098C78#32
  | 88 => 0x3F248DBB#32
  | 89 => 0x3F6C835E#32
  | 90 => 0xBDB27EB6#32
  | 91 => 0xBF79EE89#32
  | 92 => 0xBF000000#32
  | 93 => 0x3F2CF37B#32
  | 94 => 0x3F6803CA#32
  | 95 => 0xBE05A8A8#32
  | 96 => 0xBF7C1C5C#32
  | 97 => 0xBEEC6A50#32
  | 98 => 0x3F3504F3#32
  | 99 => 0x3F631324#32
  | 100 => 0xBE31D0D4#32
  | 101 => 0xBF7DCF55#32
  | 102 => 0xBED8616C#32
  | 103 => 0x3F3CBE35#32
  | 104 => 0x3F5DB3D7#32
  | 105 => 0xBE5DA259#32
  | 106 => 0xBF7F069E#32
  | 107 => 0xBEC3EF15#32
  | 108 => 0x3F441B7D#32
  | 109 => 0x3F57E880#32
  | 110 => 0xBE8483EE#32
  | 111 => 0xBF7FC1A0#32
  | 112 => 0xBEAF1D44#32
  | 113 => 0x3F4B1934#32
  | 114 => 0x3F51B3F3#32
  | 115 => 0xBE99F61C#32
  | 116 => 0xBF800000#32
  | 117 => 0xBE99F61C#32
  | 118 => 0x3F51B3F3#32
  | 119 => 0x3F4B1934#32
  | 120 => 0xBEAF1D44#32
  | 121 => 0xBF7FC1A0#32
  | 122 => 0xBE8483EE#32
  | 123 => 0x3F57E880#32
  | 124 => 0x3F441B7D#32
  | 125 => 0xBEC3EF15#32
  | 126 => 0xBF7F069E#32
  | 127 => 0xBE5DA259#32
  | _ => 0#32

noncomputable abbrev lit1t0_132 (i : Nat) : BitVec 32 := match i % 128 with
  | 0 => 0x3F5DB3D7#32
  | 1 => 0x3F3CBE35#32
  | 2 => 0xBED8616C#32
  | 3 => 0xBF7DCF55#32
  | 4 => 0xBE31D0D4#32
  | 5 => 0x3F631324#32
  | 6 => 0x3F3504F3#32
  | 7 => 0xBEEC6A50#32
  | 8 => 0xBF7C1C5C#32
  | 9 => 0xBE05A8A8#32
  | 10 => 0x3F6803CA#32
  | 11 => 0x3F2CF37B#32
  | 12 => 0xBF000000#32
  | 13 => 0xBF79EE89#32
  | 14 => 0xBDB27EB6#32
  | 15 => 0x3F6C835E#32
  | 16 => 0x3F248DBB#32
  | 17 => 0xBF098C78#32
  | 18 => 0xBF7746EA#32
  | 19 => 0xBD32AA3E#32
  | 20 => 0x3F708FB2#32
  | 21 => 0x3F1BD7CA#32
  | 22 => 0xBF12D5E8#32
  | 23 => 0xBF7426CB#32
  | 24 => 0xA50D3132#32
  | 25 => 0x3F7426CB#32
  | 26 => 0x3F12D5E8#32
  | 27 => 0xBF1BD7CA#32
  | 28 => 0xBF708FB2#32
  | 29 => 0x3D32AA3E#32
  | 30 => 0x3F7746EA#32
  | 31 => 0x3F098C78#32
  | 32 => 0xBF248DBB#32
  | 33 => 0xBF6C835E#32
  | 34 => 0x3DB27EB6#32
  | 35 => 0x3F79EE89#32
  | 36 => 0x3F000000#32
  | 37 => 0xBF2CF37B#32
  | 38 => 0xBF6803CA#32
  | 39 => 0x3E05A8A8#32
  | 40 => 0x3F7C1C5C#32
  | 41 => 0x3EEC6A50#32
  | 42 => 0xBF3504F3#32
  | 43 => 0xBF631324#32
  | 44 => 0x3E31D0D4#32
  | 45 => 0x3F7DCF55#32
  | 46 => 0x3ED8616C#32
  | 47 => 0xBF3CBE35#32
  | 48 => 0xBF5DB3D7#32
  | 49 => 0x3E5DA259#32
  | 50 => 0x3F7F069E#32
  | 51 => 0x3EC3EF15#32
  | 52 => 0xBF441B7D#32
  | 53 => 0xBF57E880#32
  | 54 => 0x3E8483EE#32
  | 55 => 0x3F7FC1A0#32
  | 56 => 0x3EAF1D44#32
  | 57 => 0xBF4B1934#32
  | 58 => 0xBF51B3F3#32
  | 59 => 0x3E99F61C#32
  | 60 => 0x3F800000#32
  | 61 => 0x3E99F61C#32
  | 62 => 0xBF51B3F3#32
  | 63 => 0xBF4B1934#32
  | 64 => 0x3EAF1D44#32
  | 65 => 0x3F7FC1A0#32
  | 66 => 0x3E8483EE#32
  | 67 => 0xBF57E880#32
  | 68 => 0xBF441B7D#32
  | 69 => 0x3EC3EF15#32
  | 70 => 0x3F7F069E#32
  | 71 => 0x3E5DA259#32
  | 72 => 0xBF5DB3D7#32
  | 73 => 0xBF3CBE35#32
  | 74 => 0x3ED8616C#32
  | 75 => 0x3F7DCF55#32
  | 76 => 0x3E31D0D4#32
  | 77 => 0xBF631324#32
  | 78 => 0xBF3504F3#32
  | 79 => 0x3EEC6A50#32
  | 80 => 0x3F7C1C5C#32
  | 81 => 0x3E05A8A8#32
  | 82 => 0xBF6803CA#32
  | 83 => 0xBF2CF37B#32
  | 84 => 0x3F000000#32
  | 85 => 0x3F79EE89#32
  | 86 => 0x3DB27EB6#32
  | 87 => 0xBF6C835E#32
  | 88 => 0xBF248DBB#32
  | 89 => 0x3F098C78#32
  | 90 => 0x3F7746EA#32
  | 91 => 0x3D32AA3E#32
  | 92 => 0xBF708FB2#32
  | 93 => 0xBF1BD7CA#32
  | 94 => 0x3F12D5E8#32
  | 95 => 0x3F7426CB#32
  | 96 => 0x80000000#32
  | 97 => 0xBF75C5D4#32
  | 98 => 0xBF098C78#32
  | 99 => 0x3F28CAE3#32
  | 100 => 0x3F6803CA#32
  | 101 => 0xBE1BC63C#32
  | 102 => 0xBF7DCF55#32
  | 103 => 0xBECE34D0#32
  | 104 => 0x3F441B7D#32
  | 105 => 0x3F54DB31#32
  | 106 => 0xBE99F61C#32
  | 107 => 0xBF7FF067#32
  | 108 => 0xBE8483EE#32
  | 109 => 0x3F5ADB81#32
  | 110 => 0x3F3CBE35#32
  | 111 => 0xBEE273AA#32
  | 112 => 0xBF7C1C5C#32
  | 113 => 0xBDDEF599#32
  | 114 => 0x3F6C835E#32
  | 115 => 0x3F203C85#32
  | 116 => 0xBF12D5E8#32
  | 117 => 0xBF726A03#32
  | 118 => 0x3D32AA3E#32
  | 119 => 0x3F78A9E0#32
  | 120 => 0x3F000000#32
  | 121 => 0xBF310700#32
  | 122 => 0xBF631324#32
  | 123 => 0x3E47C5C2#32
  | 124 => 0x3F7F069E#32
  | 125 => 0x3EB9917B#32
  | 126 => 0xBF4B1934#32
  | 127 => 0xBF4E7327#32
  | _ => 0#32

noncomputable abbrev lit1t0_133 (i : Nat) : BitVec 32 := match i % 128 with
  | 0 => 0x3EAF1D44#32
  | 1 => 0x3F7F73AF#32
  | 2 => 0x3E5DA259#32
  | 3 => 0xBF60712A#32
  | 4 => 0xBF3504F3#32
  | 5 => 0x3EF64429#32
  | 6 => 0x3F79EE89#32
  | 7 => 0x3D85F213#32
  | 8 => 0xBF708FB2#32
  | 9 => 0xBF176012#32
  | 10 => 0x3F1BD7CA#32
  | 11 => 0x3F6E9811#32
  | 12 => 0xBDB27EB6#32
  | 13 => 0xBF7B14BE#32
  | 14 => 0xBEEC6A50#32
  | 15 => 0x3F38ECD8#32
  | 16 => 0x3F5DB3D7#32
  | 17 => 0xBE7363EE#32
  | 18 => 0xBF7FC1A0#32
  | 19 => 0xBEA493B7#32
  | 20 => 0x3F51B3F3#32
  | 21 => 0x3F47A682#32
  | 22 => 0xBEC3EF15#32
  | 23 => 0xBF7E7A7A#32
  | 24 => 0xBE31D0D4#32
  | 25 => 0x3F659974#32
  | 26 => 0x3F2CF37B#32
  | 27 => 0xBF04CE53#32
  | 28 => 0xBF7746EA#32
  | 29 => 0xBCB2B521#32
  | 30 => 0x3F7426CB#32
  | 31 => 0x3F0E39DA#32
  | 32 => 0xBF248DBB#32
  | 33 => 0xBF6A51DA#32
  | 34 => 0x3E05A8A8#32
  | 35 => 0x3F7D0543#32
  | 36 => 0x3ED8616C#32
  | 37 => 0xBF407893#32
  | 38 => 0xBF57E880#32
  | 39 => 0x3E8F45C0#32
  | 40 => 0x3F800000#32
  | 41 => 0x3E8F45C0#32
  | 42 => 0xBF57E880#32
  | 43 => 0xBF407893#32
  | 44 => 0x3ED8616C#32
  | 45 => 0x3F7D0543#32
  | 46 => 0x3E05A8A8#32
  | 47 => 0xBF6A51DA#32
  | 48 => 0xBF248DBB#32
  | 49 => 0x3F0E39DA#32
  | 50 => 0x3F7426CB#32
  | 51 => 0xBCB2B521#32
  | 52 => 0xBF7746EA#32
  | 53 => 0xBF04CE53#32
  | 54 => 0x3F2CF37B#32
  | 55 => 0x3F659974#32
  | 56 => 0xBE31D0D4#32
  | 57 => 0xBF7E7A7A#32
  | 58 => 0xBEC3EF15#32
  | 59 => 0x3F47A682#32
  | 60 => 0x3F51B3F3#32
  | 61 => 0xBEA493B7#32
  | 62 => 0xBF7FC1A0#32
  | 63 => 0xBE7363EE#32
  | 64 => 0x3F5DB3D7#32
  | 65 => 0x3F38ECD8#32
  | 66 => 0xBEEC6A50#32
  | 67 => 0xBF7B14BE#32
  | 68 => 0xBDB27EB6#32
  | 69 => 0x3F6E9811#32
  | 70 => 0x3F1BD7CA#32
  | 71 => 0xBF176012#32
  | 72 => 0xBF708FB2#32
  | 73 => 0x3D85F213#32
  | 74 => 0x3F79EE89#32
  | 75 => 0x3EF64429#32
  | 76 => 0xBF3504F3#32
  | 77 => 0xBF60712A#32
  | 78 => 0x3E5DA259#32
  | 79 => 0x3F7F73AF#32
  | 80 => 0x3EAF1D44#32
  | 81 => 0xBF4E7327#32
  | 82 => 0xBF4B1934#32
  | 83 => 0x3EB9917B#32
  | 84 => 0x3F7F069E#32
  | 85 => 0x3E47C5C2#32
  | 86 => 0xBF631324#32
  | 87 => 0xBF310700#32
  | 88 => 0x3F000000#32
  | 89 => 0x3F78A9E0#32
  | 90 => 0x3D32AA3E#32
  | 91 => 0xBF726A03#32
  | 92 => 0xBF12D5E8#32
  | 93 => 0x3F203C85#32
  | 94 => 0x3F6C835E#32
  | 95 => 0xBDDEF599#32
  | 96 => 0xBF7C1C5C#32
  | 97 => 0xBEE273AA#32
  | 98 => 0x3F3CBE35#32
  | 99 => 0x3F5ADB81#32
  | 100 => 0xBE8483EE#32
  | 101 => 0xBF7FF067#32
  | 102 => 0xBE99F61C#32
  | 103 => 0x3F54DB31#32
  | 104 => 0x3F441B7D#32
  | 105 => 0xBECE34D0#32
  | 106 => 0xBF7DCF55#32
  | 107 => 0xBE1BC63C#32
  | 108 => 0x3F6803CA#32
  | 109 => 0x3F28CAE3#32
  | 110 => 0xBF098C78#32
  | 111 => 0xBF75C5D4#32
  | 112 => 0xA50D3132#32
  | 113 => 0x3F75C5D4#32
  | 114 => 0x3F098C78#32
  | 115 => 0xBF28CAE3#32
  | 116 => 0xBF6803CA#32
  | 117 => 0x3E1BC63C#32
  | 118 => 0x3F7DCF55#32
  | 119 => 0x3ECE34D0#32
  | 120 => 0xBF441B7D#32
  | 121 => 0xBF54DB31#32
  | 122 => 0x3E99F61C#32
  | 123 => 0x3F7FF067#32
  | 124 => 0x3E8483EE#32
  | 125 => 0xBF5ADB81#32
  | 126 => 0xBF3CBE35#32
  | 127 => 0x3EE273AA#32
  | _ => 0#32

noncomputable abbrev lit1t0_134 (i : Nat) : BitVec 32 := match i % 128 with
  | 0 => 0x3F7C1C5C#32
  | 1 => 0x3DDEF599#32
  | 2 => 0xBF6C835E#32
  | 3 => 0xBF203C85#32
  | 4 => 0x3F12D5E8#32
  | 5 => 0x3F726A03#32
  | 6 => 0xBD32AA3E#32
  | 7 => 0xBF78A9E0#32
  | 8 => 0xBF000000#32
  | 9 => 0x3F310700#32
  | 10 => 0x3F631324#32
  | 11 => 0xBE47C5C2#32
  | 12 => 0xBF7F069E#32
  | 13 => 0xBEB9917B#32
  | 14 => 0x3F4B1934#32
  | 15 => 0x3F4E7327#32
  | 16 => 0xBEAF1D44#32
  | 17 => 0xBF7F73AF#32
  | 18 => 0xBE5DA259#32
  | 19 => 0x3F60712A#32
  | 20 => 0x3F3504F3#32
  | 21 => 0xBEF64429#32
  | 22 => 0xBF79EE89#32
  | 23 => 0xBD85F213#32
  | 24 => 0x3F708FB2#32
  | 25 => 0x3F176012#32
  | 26 => 0xBF1BD7CA#32
  | 27 => 0xBF6E9811#32
  | 28 => 0x3DB27EB6#32
  | 29 => 0x3F7B14BE#32
  | 30 => 0x3EEC6A50#32
  | 31 => 0xBF38ECD8#32
  | 32 => 0xBF5DB3D7#32
  | 33 => 0x3E7363EE#32
  | 34 => 0x3F7FC1A0#32
  | 35 => 0x3EA493B7#32
  | 36 => 0xBF51B3F3#32
  | 37 => 0xBF47A682#32
  | 38 => 0x3EC3EF15#32
  | 39 => 0x3F7E7A7A#32
  | 40 => 0x3E31D0D4#32
  | 41 => 0xBF659974#32
  | 42 => 0xBF2CF37B#32
  | 43 => 0x3F04CE53#32
  | 44 => 0x3F7746EA#32
  | 45 => 0x3CB2B521#32
  | 46 => 0xBF7426CB#32
  | 47 => 0xBF0E39DA#32
  | 48 => 0x3F248DBB#32
  | 49 => 0x3F6A51DA#32
  | 50 => 0xBE05A8A8#32
  | 51 => 0xBF7D0543#32
  | 52 => 0xBED8616C#32
  | 53 => 0x3F407893#32
  | 54 => 0x3F57E880#32
  | 55 => 0xBE8F45C0#32
  | 56 => 0xBF800000#32
  | 57 => 0xBE8F45C0#32
  | 58 => 0x3F57E880#32
  | 59 => 0x3F407893#32
  | 60 => 0xBED8616C#32
  | 61 => 0xBF7D0543#32
  | 62 => 0xBE05A8A8#32
  | 63 => 0x3F6A51DA#32
  | 64 => 0x3F248DBB#32
  | 65 => 0xBF0E39DA#32
  | 66 => 0xBF7426CB#32
  | 67 => 0x3CB2B521#32
  | 68 => 0x3F7746EA#32
  | 69 => 0x3F04CE53#32
  | 70 => 0xBF2CF37B#32
  | 71 => 0xBF659974#32
  | 72 => 0x3E31D0D4#32
  | 73 => 0x3F7E7A7A#32
  | 74 => 0x3EC3EF15#32
  | 75 => 0xBF47A682#32
  | 76 => 0xBF51B3F3#32
  | 77 => 0x3EA493B7#32
  | 78 => 0x3F7FC1A0#32
  | 79 => 0x3E7363EE#32
  | 80 => 0xBF5DB3D7#32
  | 81 => 0xBF38ECD8#32
  | 82 => 0x3EEC6A50#32
  | 83 => 0x3F7B14BE#32
  | 84 => 0x3DB27EB6#32
  | 85 => 0xBF6E9811#32
  | 86 => 0xBF1BD7CA#32
  | 87 => 0x3F176012#32
  | 88 => 0x3F708FB2#32
  | 89 => 0xBD85F213#32
  | 90 => 0xBF79EE89#32
  | 91 => 0xBEF64429#32
  | 92 => 0x3F3504F3#32
  | 93 => 0x3F60712A#32
  | 94 => 0xBE5DA259#32
  | 95 => 0xBF7F73AF#32
  | 96 => 0xBEAF1D44#32
  | 97 => 0x3F4E7327#32
  | 98 => 0x3F4B1934#32
  | 99 => 0xBEB9917B#32
  | 100 => 0xBF7F069E#32
  | 101 => 0xBE47C5C2#32
  | 102 => 0x3F631324#32
  | 103 => 0x3F310700#32
  | 104 => 0xBF000000#32
  | 105 => 0xBF78A9E0#32
  | 106 => 0xBD32AA3E#32
  | 107 => 0x3F726A03#32
  | 108 => 0x3F12D5E8#32
  | 109 => 0xBF203C85#32
  | 110 => 0xBF6C835E#32
  | 111 => 0x3DDEF599#32
  | 112 => 0x3F7C1C5C#32
  | 113 => 0x3EE273AA#32
  | 114 => 0xBF3CBE35#32
  | 115 => 0xBF5ADB81#32
  | 116 => 0x3E8483EE#32
  | 117 => 0x3F7FF067#32
  | 118 => 0x3E99F61C#32
  | 119 => 0xBF54DB31#32
  | 120 => 0xBF441B7D#32
  | 121 => 0x3ECE34D0#32
  | 122 => 0x3F7DCF55#32
  | 123 => 0x3E1BC63C#32
  | 124 => 0xBF6803CA#32
  | 125 => 0xBF28CAE3#32
  | 126 => 0x3F098C78#32
  | 127 => 0x3F75C5D4#32
  | _ => 0#32

noncomputable abbrev lit1t0_135 (i : Nat) : BitVec 32 := match i % 128 with
  | 0 => 0x80000000#32
  | 1 => 0xBF7746EA#32
  | 2 => 0xBF000000#32
  | 3 => 0x3F3504F3#32
  | 4 => 0x3F5DB3D7#32
  | 5 => 0xBE8483EE#32
  | 6 => 0xBF800000#32
  | 7 => 0xBE8483EE#32
  | 8 => 0x3F5DB3D7#32
  | 9 => 0x3F3504F3#32
  | 10 => 0xBF000000#32
  | 11 => 0xBF7746EA#32
  | 12 => 0xA50D3132#32
  | 13 => 0x3F7746EA#32
  | 14 => 0x3F000000#32
  | 15 => 0xBF3504F3#32
  | 16 => 0xBF5DB3D7#32
  | 17 => 0x3E8483EE#32
  | 18 => 0x3F800000#32
  | 19 => 0x3E8483EE#32
  | 20 => 0xBF5DB3D7#32
  | 21 => 0xBF3504F3#32
  | 22 => 0x3F000000#32
  | 23 => 0x3F7746EA#32
  | 24 => 0x80000000#32
  | 25 => 0xBF7746EA#32
  | 26 => 0xBF000000#32
  | 27 => 0x3F3504F3#32
  | 28 => 0x3F5DB3D7#32
  | 29 => 0xBE8483EE#32
  | 30 => 0xBF800000#32
  | 31 => 0xBE8483EE#32
  | 32 => 0x3F5DB3D7#32
  | 33 => 0x3F3504F3#32
  | 34 => 0xBF000000#32
  | 35 => 0xBF7746EA#32
  | 36 => 0xA50D3132#32
  | 37 => 0x3F7746EA#32
  | 38 => 0x3F000000#32
  | 39 => 0xBF3504F3#32
  | 40 => 0xBF5DB3D7#32
  | 41 => 0x3E8483EE#32
  | 42 => 0x3F800000#32
  | 43 => 0x3E8483EE#32
  | 44 => 0xBF5DB3D7#32
  | 45 => 0xBF3504F3#32
  | 46 => 0x3F000000#32
  | 47 => 0x3F7746EA#32
  | 48 => 0x80000000#32
  | 49 => 0xBF7746EA#32
  | 50 => 0xBF000000#32
  | 51 => 0x3F3504F3#32
  | 52 => 0x3F5DB3D7#32
  | 53 => 0xBE8483EE#32
  | 54 => 0xBF800000#32
  | 55 => 0xBE8483EE#32
  | 56 => 0x3F5DB3D7#32
  | 57 => 0x3F3504F3#32
  | 58 => 0xBF000000#32
  | 59 => 0xBF7746EA#32
  | 60 => 0xA50D3132#32
  | 61 => 0x3F7746EA#32
  | 62 => 0x3F000000#32
  | 63 => 0xBF3504F3#32
  | 64 => 0xBF5DB3D7#32
  | 65 => 0x3E8483EE#32
  | 66 => 0x3F800000#32
  | 67 => 0x3E8483EE#32
  | 68 => 0xBF5DB3D7#32
  | 69 => 0xBF3504F3#32
  | 70 => 0x3F000000#32
  | 71 => 0x3F7746EA#32
  | 72 => 0x80000000#32
  | 73 => 0xBF7746EA#32
  | 74 => 0xBF000000#32
  | 75 => 0x3F3504F3#32
  | 76 => 0x3F5DB3D7#32
  | 77 => 0xBE8483EE#32
  | 78 => 0xBF800000#32
  | 79 => 0xBE8483EE#32
  | 80 => 0x3F5DB3D7#32
  | 81 => 0x3F3504F3#32
  | 82 => 0xBF000000#32
  | 83 => 0xBF7746EA#32
  | 84 => 0xA50D3132#32
  | 85 => 0x3F7746EA#32
  | 86 => 0x3F000000#32
  | 87 => 0xBF3504F3#32
  | 88 => 0xBF5DB3D7#32
  | 89 => 0x3E8483EE#32
  | 90 => 0x3F800000#32
  | 91 => 0x3E8483EE#32
  | 92 => 0xBF5DB3D7#32
  | 93 => 0xBF3504F3#32
  | 94 => 0x3F000000#32
  | 95 => 0x3F7746EA#32
  | 96 => 0x80000000#32
  | 97 => 0xBF7746EA#32
  | 98 => 0xBF000000#32
  | 99 => 0x3F3504F3#32
  | 100 => 0x3F5DB3D7#32
  | 101 => 0xBE8483EE#32
  | 102 => 0xBF800000#32
  | 103 => 0xBE8483EE#32
  | 104 => 0x3F5DB3D7#32
  | 105 => 0x3F3504F3#32
  | 106 => 0xBF000000#32
  | 107 => 0xBF7746EA#32
  | 108 => 0xA50D3132#32
  | 109 => 0x3F7746EA#32
  | 110 => 0x3F000000#32
  | 111 => 0xBF3504F3#32
  | 112 => 0xBF5DB3D7#32
  | 113 => 0x3E8483EE#32
  | 114 => 0x3F800000#32
  | 115 => 0x3E8483EE#32
  | 116 => 0xBF5DB3D7#32
  | 117 => 0xBF3504F3#32
  | 118 => 0x3F000000#32
  | 119 => 0x3F7746EA#32
  | 120 => 0x80000000#32
  | 121 => 0xBF7746EA#32
  | 122 => 0xBF000000#32
  | 123 => 0x3F3504F3#32
  | 124 => 0x3F5DB3D7#32
  | 125 => 0xBE8483EE#32
  | 126 => 0xBF800000#32
  | 127 => 0xBE8483EE#32
  | _ => 0#32

noncomputable abbrev lit1t0_136 (i : Nat) : BitVec 32 := match i % 128 with
  | 0 => 0x3F5DB3D7#32
  | 1 => 0x3F3504F3#32
  | 2 => 0xBF000000#32
  | 3 => 0xBF7746EA#32
  | 4 => 0xA50D3132#32
  | 5 => 0x3F7746EA#32
  | 6 => 0x3F000000#32
  | 7 => 0xBF3504F3#32
  | 8 => 0xBF5DB3D7#32
  | 9 => 0x3E8483EE#32
  | 10 => 0x3F800000#32
  | 11 => 0x3E8483EE#32
  | 12 => 0xBF5DB3D7#32
  | 13 => 0xBF3504F3#32
  | 14 => 0x3F000000#32
  | 15 => 0x3F7746EA#32
  | 16 => 0x80000000#32
  | 17 => 0xBF7746EA#32
  | 18 => 0xBF000000#32
  | 19 => 0x3F3504F3#32
  | 20 => 0x3F5DB3D7#32
  | 21 => 0xBE8483EE#32
  | 22 => 0xBF800000#32
  | 23 => 0xBE8483EE#32
  | 24 => 0x3F5DB3D7#32
  | 25 => 0x3F3504F3#32
  | 26 => 0xBF000000#32
  | 27 => 0xBF7746EA#32
  | 28 => 0xA50D3132#32
  | 29 => 0x3F7746EA#32
  | 30 => 0x3F000000#32
  | 31 => 0xBF3504F3#32
  | 32 => 0xBF5DB3D7#32
  | 33 => 0x3E8483EE#32
  | 34 => 0x3F800000#32
  | 35 => 0x3E8483EE#32
  | 36 => 0xBF5DB3D7#32
  | 37 => 0xBF3504F3#32
  | 38 => 0x3F000000#32
  | 39 => 0x3F7746EA#32
  | 40 => 0x80000000#32
  | 41 => 0xBF7746EA#32
  | 42 => 0xBF000000#32
  | 43 => 0x3F3504F3#32
  | 44 => 0x3F5DB3D7#32
  | 45 => 0xBE8483EE#32
  | 46 => 0xBF800000#32
  | 47 => 0xBE8483EE#32
  | 48 => 0x3F5DB3D7#32
  | 49 => 0x3F3504F3#32
  | 50 => 0xBF000000#32
  | 51 => 0xBF7746EA#32
  | 52 => 0xA50D3132#32
  | 53 => 0x3F7746EA#32
  | 54 => 0x3F000000#32
  | 55 => 0xBF3504F3#32
  | 56 => 0xBF5DB3D7#32
  | 57 => 0x3E8483EE#32
  | 58 => 0x3F800000#32
  | 59 => 0x3E8483EE#32
  | 60 => 0xBF5DB3D7#32
  | 61 => 0xBF3504F3#32
  | 62 => 0x3F000000#32
  | 63 => 0x3F7746EA#32
  | 64 => 0x80000000#32
  | 65 => 0xBF7746EA#32
  | 66 => 0xBF000000#32
  | 67 => 0x3F3504F3#32
  | 68 => 0x3F5DB3D7#32
  | 69 => 0xBE8483EE#32
  | 70 => 0xBF800000#32
  | 71 => 0xBE8483EE#32
  | 72 => 0x3F5DB3D7#32
  | 73 => 0x3F3504F3#32
  | 74 => 0xBF000000#32
  | 75 => 0xBF7746EA#32
  | 76 => 0xA50D3132#32
  | 77 => 0x3F7746EA#32
  | 78 => 0x3F000000#32
  | 79 => 0xBF3504F3#32
  | 80 => 0xBF5DB3D7#32
  | 81 => 0x3E8483EE#32
  | 82 => 0x3F800000#32
  | 83 => 0x3E8483EE#32
  | 84 => 0xBF5DB3D7#32
  | 85 => 0xBF3504F3#32
  | 86 => 0x3F000000#32
  | 87 => 0x3F7746EA#32
  | 88 => 0x80000000#32
  | 89 => 0xBF7746EA#32
  | 90 => 0xBF000000#32
  | 91 => 0x3F3504F3#32
  | 92 => 0x3F5DB3D7#32
  | 93 => 0xBE8483EE#32
  | 94 => 0xBF800000#32
  | 95 => 0xBE8483EE#32
  | 96 => 0x3F5DB3D7#32
  | 97 => 0x3F3504F3#32
  | 98 => 0xBF000000#32
  | 99 => 0xBF7746EA#32
  | 100 => 0xA50D3132#32
  | 101 => 0x3F7746EA#32
  | 102 => 0x3F000000#32
  | 103 => 0xBF3504F3#32
  | 104 => 0xBF5DB3D7#32
  | 105 => 0x3E8483EE#32
  | 106 => 0x3F800000#32
  | 107 => 0x3E8483EE#32
  | 108 => 0xBF5DB3D7#32
  | 109 => 0xBF3504F3#32
  | 110 => 0x3F000000#32
  | 111 => 0x3F7746EA#32
  | 112 => 0x80000000#32
  | 113 => 0xBF7746EA#32
  | 114 => 0xBF000000#32
  | 115 => 0x3F3504F3#32
  | 116 => 0x3F5DB3D7#32
  | 117 => 0xBE8483EE#32
  | 118 => 0xBF800000#32
  | 119 => 0xBE8483EE#32
  | 120 => 0x3F5DB3D7#32
  | 121 => 0x3F3504F3#32
  | 122 => 0xBF000000#32
  | 123 => 0xBF7746EA#32
  | 124 => 0xA50D3132#32
  | 125 => 0x3F7746EA#32
  | 126 => 0x3F000000#32
  | 127 => 0xBF3504F3#32
  | _ => 0#32

noncomputable abbrev lit1t0_137 (i : Nat) : BitVec 32 := match i % 128 with
  | 0 => 0xBF5DB3D7#32
  | 1 => 0x3E8483EE#32
  | 2 => 0x3F800000#32
  | 3 => 0x3E8483EE#32
  | 4 => 0xBF5DB3D7#32
  | 5 => 0xBF3504F3#32
  | 6 => 0x3F000000#32
  | 7 => 0x3F7746EA#32
  | 8 => 0x80000000#32
  | 9 => 0xBF7746EA#32
  | 10 => 0xBF000000#32
  | 11 => 0x3F3504F3#32
  | 12 => 0x3F5DB3D7#32
  | 13 => 0xBE8483EE#32
  | 14 => 0xBF800000#32
  | 15 => 0xBE8483EE#32
  | 16 => 0x3F5DB3D7#32
  | 17 => 0x3F3504F3#32
  | 18 => 0xBF000000#32
  | 19 => 0xBF7746EA#32
  | 20 => 0xA50D3132#32
  | 21 => 0x3F7746EA#32
  | 22 => 0x3F000000#32
  | 23 => 0xBF3504F3#32
  | 24 => 0xBF5DB3D7#32
  | 25 => 0x3E8483EE#32
  | 26 => 0x3F800000#32
  | 27 => 0x3E8483EE#32
  | 28 => 0xBF5DB3D7#32
  | 29 => 0xBF3504F3#32
  | 30 => 0x3F000000#32
  | 31 => 0x3F7746EA#32
  | 32 => 0x80000000#32
  | 33 => 0xBF78A9E0#32
  | 34 => 0xBEEC6A50#32
  | 35 => 0x3F407893#32
  | 36 => 0x3F51B3F3#32
  | 37 => 0xBEB9917B#32
  | 38 => 0xBF7DCF55#32
  | 39 => 0xBDDEF599#32
  | 40 => 0x3F708FB2#32
  | 41 => 0x3F0E39DA#32
  | 42 => 0xBF2CF37B#32
  | 43 => 0xBF60712A#32
  | 44 => 0x3E8483EE#32
  | 45 => 0x3F7FF067#32
  | 46 => 0x3E5DA259#32
  | 47 => 0xBF659974#32
  | 48 => 0xBF248DBB#32
  | 49 => 0x3F176012#32
  | 50 => 0x3F6C835E#32
  | 51 => 0xBE1BC63C#32
  | 52 => 0xBF7F069E#32
  | 53 => 0xBEA493B7#32
  | 54 => 0x3F57E880#32
  | 55 => 0x3F38ECD8#32
  | 56 => 0xBF000000#32
  | 57 => 0xBF75C5D4#32
  | 58 => 0x3D32AA3E#32
  | 59 => 0x3F7B14BE#32
  | 60 => 0x3ED8616C#32
  | 61 => 0xBF47A682#32
  | 62 => 0xBF4B1934#32
  | 63 => 0x3ECE34D0#32
  | 64 => 0x3F7C1C5C#32
  | 65 => 0x3D85F213#32
  | 66 => 0xBF7426CB#32
  | 67 => 0xBF04CE53#32
  | 68 => 0x3F3504F3#32
  | 69 => 0x3F5ADB81#32
  | 70 => 0xBE99F61C#32
  | 71 => 0xBF7F73AF#32
  | 72 => 0xBE31D0D4#32
  | 73 => 0x3F6A51DA#32
  | 74 => 0x3F1BD7CA#32
  | 75 => 0xBF203C85#32
  | 76 => 0xBF6803CA#32
  | 77 => 0x3E47C5C2#32
  | 78 => 0x3F7FC1A0#32
  | 79 => 0x3E8F45C0#32
  | 80 => 0xBF5DB3D7#32
  | 81 => 0xBF310700#32
  | 82 => 0x3F098C78#32
  | 83 => 0x3F726A03#32
  | 84 => 0xBDB27EB6#32
  | 85 => 0xBF7D0543#32
  | 86 => 0xBEC3EF15#32
  | 87 => 0x3F4E7327#32
  | 88 => 0x3F441B7D#32
  | 89 => 0xBEE273AA#32
  | 90 => 0xBF79EE89#32
  | 91 => 0xBCB2B521#32
  | 92 => 0x3F7746EA#32
  | 93 => 0x3EF64429#32
  | 94 => 0xBF3CBE35#32
  | 95 => 0xBF54DB31#32
  | 96 => 0x3EAF1D44#32
  | 97 => 0x3F7E7A7A#32
  | 98 => 0x3E05A8A8#32
  | 99 => 0xBF6E9811#32
  | 100 => 0xBF12D5E8#32
  | 101 => 0x3F28CAE3#32
  | 102 => 0x3F631324#32
  | 103 => 0xBE7363EE#32
  | 104 => 0xBF800000#32
  | 105 => 0xBE7363EE#32
  | 106 => 0x3F631324#32
  | 107 => 0x3F28CAE3#32
  | 108 => 0xBF12D5E8#32
  | 109 => 0xBF6E9811#32
  | 110 => 0x3E05A8A8#32
  | 111 => 0x3F7E7A7A#32
  | 112 => 0x3EAF1D44#32
  | 113 => 0xBF54DB31#32
  | 114 => 0xBF3CBE35#32
  | 115 => 0x3EF64429#32
  | 116 => 0x3F7746EA#32
  | 117 => 0xBCB2B521#32
  | 118 => 0xBF79EE89#32
  | 119 => 0xBEE273AA#32
  | 120 => 0x3F441B7D#32
  | 121 => 0x3F4E7327#32
  | 122 => 0xBEC3EF15#32
  | 123 => 0xBF7D0543#32
  | 124 => 0xBDB27EB6#32
  | 125 => 0x3F726A03#32
  | 126 => 0x3F098C78#32
  | 127 => 0xBF310700#32
  | _ => 0#32

noncomputable abbrev lit1t0_138 (i : Nat) : BitVec 32 := match i % 128 with
  | 0 => 0xBF5DB3D7#32
  | 1 => 0x3E8F45C0#32
  | 2 => 0x3F7FC1A0#32
  | 3 => 0x3E47C5C2#32
  | 4 => 0xBF6803CA#32
  | 5 => 0xBF203C85#32
  | 6 => 0x3F1BD7CA#32
  | 7 => 0x3F6A51DA#32
  | 8 => 0xBE31D0D4#32
  | 9 => 0xBF7F73AF#32
  | 10 => 0xBE99F61C#32
  | 11 => 0x3F5ADB81#32
  | 12 => 0x3F3504F3#32
  | 13 => 0xBF04CE53#32
  | 14 => 0xBF7426CB#32
  | 15 => 0x3D85F213#32
  | 16 => 0x3F7C1C5C#32
  | 17 => 0x3ECE34D0#32
  | 18 => 0xBF4B1934#32
  | 19 => 0xBF47A682#32
  | 20 => 0x3ED8616C#32
  | 21 => 0x3F7B14BE#32
  | 22 => 0x3D32AA3E#32
  | 23 => 0xBF75C5D4#32
  | 24 => 0xBF000000#32
  | 25 => 0x3F38ECD8#32
  | 26 => 0x3F57E880#32
  | 27 => 0xBEA493B7#32
  | 28 => 0xBF7F069E#32
  | 29 => 0xBE1BC63C#32
  | 30 => 0x3F6C835E#32
  | 31 => 0x3F176012#32
  | 32 => 0xBF248DBB#32
  | 33 => 0xBF659974#32
  | 34 => 0x3E5DA259#32
  | 35 => 0x3F7FF067#32
  | 36 => 0x3E8483EE#32
  | 37 => 0xBF60712A#32
  | 38 => 0xBF2CF37B#32
  | 39 => 0x3F0E39DA#32
  | 40 => 0x3F708FB2#32
  | 41 => 0xBDDEF599#32
  | 42 => 0xBF7DCF55#32
  | 43 => 0xBEB9917B#32
  | 44 => 0x3F51B3F3#32
  | 45 => 0x3F407893#32
  | 46 => 0xBEEC6A50#32
  | 47 => 0xBF78A9E0#32
  | 48 => 0xA50D3132#32
  | 49 => 0x3F78A9E0#32
  | 50 => 0x3EEC6A50#32
  | 51 => 0xBF407893#32
  | 52 => 0xBF51B3F3#32
  | 53 => 0x3EB9917B#32
  | 54 => 0x3F7DCF55#32
  | 55 => 0x3DDEF599#32
  | 56 => 0xBF708FB2#32
  | 57 => 0xBF0E39DA#32
  | 58 => 0x3F2CF37B#32
  | 59 => 0x3F60712A#32
  | 60 => 0xBE8483EE#32
  | 61 => 0xBF7FF067#32
  | 62 => 0xBE5DA259#32
  | 63 => 0x3F659974#32
  | 64 => 0x3F248DBB#32
  | 65 => 0xBF176012#32
  | 66 => 0xBF6C835E#32
  | 67 => 0x3E1BC63C#32
  | 68 => 0x3F7F069E#32
  | 69 => 0x3EA493B7#32
  | 70 => 0xBF57E880#32
  | 71 => 0xBF38ECD8#32
  | 72 => 0x3F000000#32
  | 73 => 0x3F75C5D4#32
  | 74 => 0xBD32AA3E#32
  | 75 => 0xBF7B14BE#32
  | 76 => 0xBED8616C#32
  | 77 => 0x3F47A682#32
  | 78 => 0x3F4B1934#32
  | 79 => 0xBECE34D0#32
  | 80 => 0xBF7C1C5C#32
  | 81 => 0xBD85F213#32
  | 82 => 0x3F7426CB#32
  | 83 => 0x3F04CE53#32
  | 84 => 0xBF3504F3#32
  | 85 => 0xBF5ADB81#32
  | 86 => 0x3E99F61C#32
  | 87 => 0x3F7F73AF#32
  | 88 => 0x3E31D0D4#32
  | 89 => 0xBF6A51DA#32
  | 90 => 0xBF1BD7CA#32
  | 91 => 0x3F203C85#32
  | 92 => 0x3F6803CA#32
  | 93 => 0xBE47C5C2#32
  | 94 => 0xBF7FC1A0#32
  | 95 => 0xBE8F45C0#32
  | 96 => 0x3F5DB3D7#32
  | 97 => 0x3F310700#32
  | 98 => 0xBF098C78#32
  | 99 => 0xBF726A03#32
  | 100 => 0x3DB27EB6#32
  | 101 => 0x3F7D0543#32
  | 102 => 0x3EC3EF15#32
  | 103 => 0xBF4E7327#32
  | 104 => 0xBF441B7D#32
  | 105 => 0x3EE273AA#32
  | 106 => 0x3F79EE89#32
  | 107 => 0x3CB2B521#32
  | 108 => 0xBF7746EA#32
  | 109 => 0xBEF64429#32
  | 110 => 0x3F3CBE35#32
  | 111 => 0x3F54DB31#32
  | 112 => 0xBEAF1D44#32
  | 113 => 0xBF7E7A7A#32
  | 114 => 0xBE05A8A8#32
  | 115 => 0x3F6E9811#32
  | 116 => 0x3F12D5E8#32
  | 117 => 0xBF28CAE3#32
  | 118 => 0xBF631324#32
  | 119 => 0x3E7363EE#32
  | 120 => 0x3F800000#32
  | 121 => 0x3E7363EE#32
  | 122 => 0xBF631324#32
  | 123 => 0xBF28CAE3#32
  | 124 => 0x3F12D5E8#32
  | 125 => 0x3F6E9811#32
  | 126 => 0xBE05A8A8#32
  | 127 => 0xBF7E7A7A#32
  | _ => 0#32

noncomputable abbrev lit1t0_139 (i : Nat) : BitVec 32 := match i % 128 with
  | 0 => 0xBEAF1D44#32
  | 1 => 0x3F54DB31#32
  | 2 => 0x3F3CBE35#32
  | 3 => 0xBEF64429#32
  | 4 => 0xBF7746EA#32
  | 5 => 0x3CB2B521#32
  | 6 => 0x3F79EE89#32
  | 7 => 0x3EE273AA#32
  | 8 => 0xBF441B7D#32
  | 9 => 0xBF4E7327#32
  | 10 => 0x3EC3EF15#32
  | 11 => 0x3F7D0543#32
  | 12 => 0x3DB27EB6#32
  | 13 => 0xBF726A03#32
  | 14 => 0xBF098C78#32
  | 15 => 0x3F310700#32
  | 16 => 0x3F5DB3D7#32
  | 17 => 0xBE8F45C0#32
  | 18 => 0xBF7FC1A0#32
  | 19 => 0xBE47C5C2#32
  | 20 => 0x3F6803CA#32
  | 21 => 0x3F203C85#32
  | 22 => 0xBF1BD7CA#32
  | 23 => 0xBF6A51DA#32
  | 24 => 0x3E31D0D4#32
  | 25 => 0x3F7F73AF#32
  | 26 => 0x3E99F61C#32
  | 27 => 0xBF5ADB81#32
  | 28 => 0xBF3504F3#32
  | 29 => 0x3F04CE53#32
  | 30 => 0x3F7426CB#32
  | 31 => 0xBD85F213#32
  | 32 => 0xBF7C1C5C#32
  | 33 => 0xBECE34D0#32
  | 34 => 0x3F4B1934#32
  | 35 => 0x3F47A682#32
  | 36 => 0xBED8616C#32
  | 37 => 0xBF7B14BE#32
  | 38 => 0xBD32AA3E#32
  | 39 => 0x3F75C5D4#32
  | 40 => 0x3F000000#32
  | 41 => 0xBF38ECD8#32
  | 42 => 0xBF57E880#32
  | 43 => 0x3EA493B7#32
  | 44 => 0x3F7F069E#32
  | 45 => 0x3E1BC63C#32
  | 46 => 0xBF6C835E#32
  | 47 => 0xBF176012#32
  | 48 => 0x3F248DBB#32
  | 49 => 0x3F659974#32
  | 50 => 0xBE5DA259#32
  | 51 => 0xBF7FF067#32
  | 52 => 0xBE8483EE#32
  | 53 => 0x3F60712A#32
  | 54 => 0x3F2CF37B#32
  | 55 => 0xBF0E39DA#32
  | 56 => 0xBF708FB2#32
  | 57 => 0x3DDEF599#32
  | 58 => 0x3F7DCF55#32
  | 59 => 0x3EB9917B#32
  | 60 => 0xBF51B3F3#32
  | 61 => 0xBF407893#32
  | 62 => 0x3EEC6A50#32
  | 63 => 0x3F78A9E0#32
  | 64 => 0x80000000#32
  | 65 => 0xBF79EE89#32
  | 66 => 0xBED8616C#32
  | 67 => 0x3F4B1934#32
  | 68 => 0x3F441B7D#32
  | 69 => 0xBEEC6A50#32
  | 70 => 0xBF7746EA#32
  | 71 => 0x3D32AA3E#32
  | 72 => 0x3F7C1C5C#32
  | 73 => 0x3EC3EF15#32
  | 74 => 0xBF51B3F3#32
  | 75 => 0xBF3CBE35#32
  | 76 => 0x3F000000#32
  | 77 => 0x3F7426CB#32
  | 78 => 0xBDB27EB6#32
  | 79 => 0xBF7DCF55#32
  | 80 => 0xBEAF1D44#32
  | 81 => 0x3F57E880#32
  | 82 => 0x3F3504F3#32
  | 83 => 0xBF098C78#32
  | 84 => 0xBF708FB2#32
  | 85 => 0x3E05A8A8#32
  | 86 => 0x3F7F069E#32
  | 87 => 0x3E99F61C#32
  | 88 => 0xBF5DB3D7#32
  | 89 => 0xBF2CF37B#32
  | 90 => 0x3F12D5E8#32
  | 91 => 0x3F6C835E#32
  | 92 => 0xBE31D0D4#32
  | 93 => 0xBF7FC1A0#32
  | 94 => 0xBE8483EE#32
  | 95 => 0x3F631324#32
  | 96 => 0x3F248DBB#32
  | 97 => 0xBF1BD7CA#32
  | 98 => 0xBF6803CA#32
  | 99 => 0x3E5DA259#32
  | 100 => 0x3F800000#32
  | 101 => 0x3E5DA259#32
  | 102 => 0xBF6803CA#32
  | 103 => 0xBF1BD7CA#32
  | 104 => 0x3F248DBB#32
  | 105 => 0x3F631324#32
  | 106 => 0xBE8483EE#32
  | 107 => 0xBF7FC1A0#32
  | 108 => 0xBE31D0D4#32
  | 109 => 0x3F6C835E#32
  | 110 => 0x3F12D5E8#32
  | 111 => 0xBF2CF37B#32
  | 112 => 0xBF5DB3D7#32
  | 113 => 0x3E99F61C#32
  | 114 => 0x3F7F069E#32
  | 115 => 0x3E05A8A8#32
  | 116 => 0xBF708FB2#32
  | 117 => 0xBF098C78#32
  | 118 => 0x3F3504F3#32
  | 119 => 0x3F57E880#32
  | 120 => 0xBEAF1D44#32
  | 121 => 0xBF7DCF55#32
  | 122 => 0xBDB27EB6#32
  | 123 => 0x3F7426CB#32
  | 124 => 0x3F000000#32
  | 125 => 0xBF3CBE35#32
  | 126 => 0xBF51B3F3#32
  | 127 => 0x3EC3EF15#32
  | _ => 0#32

noncomputable abbrev lit1t0_140 (i : Nat) : BitVec 32 := match i % 128 with
  | 0 => 0x3F7C1C5C#32
  | 1 => 0x3D32AA3E#32
  | 2 => 0xBF7746EA#32
  | 3 => 0xBEEC6A50#32
  | 4 => 0x3F441B7D#32
  | 5 => 0x3F4B1934#32
  | 6 => 0xBED8616C#32
  | 7 => 0xBF79EE89#32
  | 8 => 0xA50D3132#32
  | 9 => 0x3F79EE89#32
  | 10 => 0x3ED8616C#32
  | 11 => 0xBF4B1934#32
  | 12 => 0xBF441B7D#32
  | 13 => 0x3EEC6A50#32
  | 14 => 0x3F7746EA#32
  | 15 => 0xBD32AA3E#32
  | 16 => 0xBF7C1C5C#32
  | 17 => 0xBEC3EF15#32
  | 18 => 0x3F51B3F3#32
  | 19 => 0x3F3CBE35#32
  | 20 => 0xBF000000#32
  | 21 => 0xBF7426CB#32
  | 22 => 0x3DB27EB6#32
  | 23 => 0x3F7DCF55#32
  | 24 => 0x3EAF1D44#32
  | 25 => 0xBF57E880#32
  | 26 => 0xBF3504F3#32
  | 27 => 0x3F098C78#32
  | 28 => 0x3F708FB2#32
  | 29 => 0xBE05A8A8#32
  | 30 => 0xBF7F069E#32
  | 31 => 0xBE99F61C#32
  | 32 => 0x3F5DB3D7#32
  | 33 => 0x3F2CF37B#32
  | 34 => 0xBF12D5E8#32
  | 35 => 0xBF6C835E#32
  | 36 => 0x3E31D0D4#32
  | 37 => 0x3F7FC1A0#32
  | 38 => 0x3E8483EE#32
  | 39 => 0xBF631324#32
  | 40 => 0xBF248DBB#32
  | 41 => 0x3F1BD7CA#32
  | 42 => 0x3F6803CA#32
  | 43 => 0xBE5DA259#32
  | 44 => 0xBF800000#32
  | 45 => 0xBE5DA259#32
  | 46 => 0x3F6803CA#32
  | 47 => 0x3F1BD7CA#32
  | 48 => 0xBF248DBB#32
  | 49 => 0xBF631324#32
  | 50 => 0x3E8483EE#32
  | 51 => 0x3F7FC1A0#32
  | 52 => 0x3E31D0D4#32
  | 53 => 0xBF6C835E#32
  | 54 => 0xBF12D5E8#32
  | 55 => 0x3F2CF37B#32
  | 56 => 0x3F5DB3D7#32
  | 57 => 0xBE99F61C#32
  | 58 => 0xBF7F069E#32
  | 59 => 0xBE05A8A8#32
  | 60 => 0x3F708FB2#32
  | 61 => 0x3F098C78#32
  | 62 => 0xBF3504F3#32
  | 63 => 0xBF57E880#32
  | 64 => 0x3EAF1D44#32
  | 65 => 0x3F7DCF55#32
  | 66 => 0x3DB27EB6#32
  | 67 => 0xBF7426CB#32
  | 68 => 0xBF000000#32
  | 69 => 0x3F3CBE35#32
  | 70 => 0x3F51B3F3#32
  | 71 => 0xBEC3EF15#32
  | 72 => 0xBF7C1C5C#32
  | 73 => 0xBD32AA3E#32
  | 74 => 0x3F7746EA#32
  | 75 => 0x3EEC6A50#32
  | 76 => 0xBF441B7D#32
  | 77 => 0xBF4B1934#32
  | 78 => 0x3ED8616C#32
  | 79 => 0x3F79EE89#32
  | 80 => 0x80000000#32
  | 81 => 0xBF79EE89#32
  | 82 => 0xBED8616C#32
  | 83 => 0x3F4B1934#32
  | 84 => 0x3F441B7D#32
  | 85 => 0xBEEC6A50#32
  | 86 => 0xBF7746EA#32
  | 87 => 0x3D32AA3E#32
  | 88 => 0x3F7C1C5C#32
  | 89 => 0x3EC3EF15#32
  | 90 => 0xBF51B3F3#32
  | 91 => 0xBF3CBE35#32
  | 92 => 0x3F000000#32
  | 93 => 0x3F7426CB#32
  | 94 => 0xBDB27EB6#32
  | 95 => 0xBF7DCF55#32
  | 96 => 0xBEAF1D44#32
  | 97 => 0x3F57E880#32
  | 98 => 0x3F3504F3#32
  | 99 => 0xBF098C78#32
  | 100 => 0xBF708FB2#32
  | 101 => 0x3E05A8A8#32
  | 102 => 0x3F7F069E#32
  | 103 => 0x3E99F61C#32
  | 104 => 0xBF5DB3D7#32
  | 105 => 0xBF2CF37B#32
  | 106 => 0x3F12D5E8#32
  | 107 => 0x3F6C835E#32
  | 108 => 0xBE31D0D4#32
  | 109 => 0xBF7FC1A0#32
  | 110 => 0xBE8483EE#32
  | 111 => 0x3F631324#32
  | 112 => 0x3F248DBB#32
  | 113 => 0xBF1BD7CA#32
  | 114 => 0xBF6803CA#32
  | 115 => 0x3E5DA259#32
  | 116 => 0x3F800000#32
  | 117 => 0x3E5DA259#32
  | 118 => 0xBF6803CA#32
  | 119 => 0xBF1BD7CA#32
  | 120 => 0x3F248DBB#32
  | 121 => 0x3F631324#32
  | 122 => 0xBE8483EE#32
  | 123 => 0xBF7FC1A0#32
  | 124 => 0xBE31D0D4#32
  | 125 => 0x3F6C835E#32
  | 126 => 0x3F12D5E8#32
  | 127 => 0xBF2CF37B#32
  | _ => 0#32

noncomputable abbrev lit1t0_141 (i : Nat) : BitVec 32 := match i % 128 with
  | 0 => 0xBF5DB3D7#32
  | 1 => 0x3E99F61C#32
  | 2 => 0x3F7F069E#32
  | 3 => 0x3E05A8A8#32
  | 4 => 0xBF708FB2#32
  | 5 => 0xBF098C78#32
  | 6 => 0x3F3504F3#32
  | 7 => 0x3F57E880#32
  | 8 => 0xBEAF1D44#32
  | 9 => 0xBF7DCF55#32
  | 10 => 0xBDB27EB6#32
  | 11 => 0x3F7426CB#32
  | 12 => 0x3F000000#32
  | 13 => 0xBF3CBE35#32
  | 14 => 0xBF51B3F3#32
  | 15 => 0x3EC3EF15#32
  | 16 => 0x3F7C1C5C#32
  | 17 => 0x3D32AA3E#32
  | 18 => 0xBF7746EA#32
  | 19 => 0xBEEC6A50#32
  | 20 => 0x3F441B7D#32
  | 21 => 0x3F4B1934#32
  | 22 => 0xBED8616C#32
  | 23 => 0xBF79EE89#32
  | 24 => 0xA50D3132#32
  | 25 => 0x3F79EE89#32
  | 26 => 0x3ED8616C#32
  | 27 => 0xBF4B1934#32
  | 28 => 0xBF441B7D#32
  | 29 => 0x3EEC6A50#32
  | 30 => 0x3F7746EA#32
  | 31 => 0xBD32AA3E#32
  | 32 => 0xBF7C1C5C#32
  | 33 => 0xBEC3EF15#32
  | 34 => 0x3F51B3F3#32
  | 35 => 0x3F3CBE35#32
  | 36 => 0xBF000000#32
  | 37 => 0xBF7426CB#32
  | 38 => 0x3DB27EB6#32
  | 39 => 0x3F7DCF55#32
  | 40 => 0x3EAF1D44#32
  | 41 => 0xBF57E880#32
  | 42 => 0xBF3504F3#32
  | 43 => 0x3F098C78#32
  | 44 => 0x3F708FB2#32
  | 45 => 0xBE05A8A8#32
  | 46 => 0xBF7F069E#32
  | 47 => 0xBE99F61C#32
  | 48 => 0x3F5DB3D7#32
  | 49 => 0x3F2CF37B#32
  | 50 => 0xBF12D5E8#32
  | 51 => 0xBF6C835E#32
  | 52 => 0x3E31D0D4#32
  | 53 => 0x3F7FC1A0#32
  | 54 => 0x3E8483EE#32
  | 55 => 0xBF631324#32
  | 56 => 0xBF248DBB#32
  | 57 => 0x3F1BD7CA#32
  | 58 => 0x3F6803CA#32
  | 59 => 0xBE5DA259#32
  | 60 => 0xBF800000#32
  | 61 => 0xBE5DA259#32
  | 62 => 0x3F6803CA#32
  | 63 => 0x3F1BD7CA#32
  | 64 => 0xBF248DBB#32
  | 65 => 0xBF631324#32
  | 66 => 0x3E8483EE#32
  | 67 => 0x3F7FC1A0#32
  | 68 => 0x3E31D0D4#32
  | 69 => 0xBF6C835E#32
  | 70 => 0xBF12D5E8#32
  | 71 => 0x3F2CF37B#32
  | 72 => 0x3F5DB3D7#32
  | 73 => 0xBE99F61C#32
  | 74 => 0xBF7F069E#32
  | 75 => 0xBE05A8A8#32
  | 76 => 0x3F708FB2#32
  | 77 => 0x3F098C78#32
  | 78 => 0xBF3504F3#32
  | 79 => 0xBF57E880#32
  | 80 => 0x3EAF1D44#32
  | 81 => 0x3F7DCF55#32
  | 82 => 0x3DB27EB6#32
  | 83 => 0xBF7426CB#32
  | 84 => 0xBF000000#32
  | 85 => 0x3F3CBE35#32
  | 86 => 0x3F51B3F3#32
  | 87 => 0xBEC3EF15#32
  | 88 => 0xBF7C1C5C#32
  | 89 => 0xBD32AA3E#32
  | 90 => 0x3F7746EA#32
  | 91 => 0x3EEC6A50#32
  | 92 => 0xBF441B7D#32
  | 93 => 0xBF4B1934#32
  | 94 => 0x3ED8616C#32
  | 95 => 0x3F79EE89#32
  | 96 => 0x80000000#32
  | 97 => 0xBF7B14BE#32
  | 98 => 0xBEC3EF15#32
  | 99 => 0x3F54DB31#32
  | 100 => 0x3F3504F3#32
  | 101 => 0xBF0E39DA#32
  | 102 => 0xBF6C835E#32
  | 103 => 0x3E47C5C2#32
  | 104 => 0x3F800000#32
  | 105 => 0x3E47C5C2#32
  | 106 => 0xBF6C835E#32
  | 107 => 0xBF0E39DA#32
  | 108 => 0x3F3504F3#32
  | 109 => 0x3F54DB31#32
  | 110 => 0xBEC3EF15#32
  | 111 => 0xBF7B14BE#32
  | 112 => 0xA50D3132#32
  | 113 => 0x3F7B14BE#32
  | 114 => 0x3EC3EF15#32
  | 115 => 0xBF54DB31#32
  | 116 => 0xBF3504F3#32
  | 117 => 0x3F0E39DA#32
  | 118 => 0x3F6C835E#32
  | 119 => 0xBE47C5C2#32
  | 120 => 0xBF800000#32
  | 121 => 0xBE47C5C2#32
  | 122 => 0x3F6C835E#32
  | 123 => 0x3F0E39DA#32
  | 124 => 0xBF3504F3#32
  | 125 => 0xBF54DB31#32
  | 126 => 0x3EC3EF15#32
  | 127 => 0x3F7B14BE#32
  | _ => 0#32

noncomputable abbrev lit1t0_142 (i : Nat) : BitVec 32 := match i % 128 with
  | 0 => 0x80000000#32
  | 1 => 0xBF7B14BE#32
  | 2 => 0xBEC3EF15#32
  | 3 => 0x3F54DB31#32
  | 4 => 0x3F3504F3#32
  | 5 => 0xBF0E39DA#32
  | 6 => 0xBF6C835E#32
  | 7 => 0x3E47C5C2#32
  | 8 => 0x3F800000#32
  | 9 => 0x3E47C5C2#32
  | 10 => 0xBF6C835E#32
  | 11 => 0xBF0E39DA#32
  | 12 => 0x3F3504F3#32
  | 13 => 0x3F54DB31#32
  | 14 => 0xBEC3EF15#32
  | 15 => 0xBF7B14BE#32
  | 16 => 0xA50D3132#32
  | 17 => 0x3F7B14BE#32
  | 18 => 0x3EC3EF15#32
  | 19 => 0xBF54DB31#32
  | 20 => 0xBF3504F3#32
  | 21 => 0x3F0E39DA#32
  | 22 => 0x3F6C835E#32
  | 23 => 0xBE47C5C2#32
  | 24 => 0xBF800000#32
  | 25 => 0xBE47C5C2#32
  | 26 => 0x3F6C835E#32
  | 27 => 0x3F0E39DA#32
  | 28 => 0xBF3504F3#32
  | 29 => 0xBF54DB31#32
  | 30 => 0x3EC3EF15#32
  | 31 => 0x3F7B14BE#32
  | 32 => 0x80000000#32
  | 33 => 0xBF7B14BE#32
  | 34 => 0xBEC3EF15#32
  | 35 => 0x3F54DB31#32
  | 36 => 0x3F3504F3#32
  | 37 => 0xBF0E39DA#32
  | 38 => 0xBF6C835E#32
  | 39 => 0x3E47C5C2#32
  | 40 => 0x3F800000#32
  | 41 => 0x3E47C5C2#32
  | 42 => 0xBF6C835E#32
  | 43 => 0xBF0E39DA#32
  | 44 => 0x3F3504F3#32
  | 45 => 0x3F54DB31#32
  | 46 => 0xBEC3EF15#32
  | 47 => 0xBF7B14BE#32
  | 48 => 0xA50D3132#32
  | 49 => 0x3F7B14BE#32
  | 50 => 0x3EC3EF15#32
  | 51 => 0xBF54DB31#32
  | 52 => 0xBF3504F3#32
  | 53 => 0x3F0E39DA#32
  | 54 => 0x3F6C835E#32
  | 55 => 0xBE47C5C2#32
  | 56 => 0xBF800000#32
  | 57 => 0xBE47C5C2#32
  | 58 => 0x3F6C835E#32
  | 59 => 0x3F0E39DA#32
  | 60 => 0xBF3504F3#32
  | 61 => 0xBF54DB31#32
  | 62 => 0x3EC3EF15#32
  | 63 => 0x3F7B14BE#32
  | 64 => 0x80000000#32
  | 65 => 0xBF7B14BE#32
  | 66 => 0xBEC3EF15#32
  | 67 => 0x3F54DB31#32
  | 68 => 0x3F3504F3#32
  | 69 => 0xBF0E39DA#32
  | 70 => 0xBF6C835E#32
  | 71 => 0x3E47C5C2#32
  | 72 => 0x3F800000#32
  | 73 => 0x3E47C5C2#32
  | 74 => 0xBF6C835E#32
  | 75 => 0xBF0E39DA#32
  | 76 => 0x3F3504F3#32
  | 77 => 0x3F54DB31#32
  | 78 => 0xBEC3EF15#32
  | 79 => 0xBF7B14BE#32
  | 80 => 0xA50D3132#32
  | 81 => 0x3F7B14BE#32
  | 82 => 0x3EC3EF15#32
  | 83 => 0xBF54DB31#32
  | 84 => 0xBF3504F3#32
  | 85 => 0x3F0E39DA#32
  | 86 => 0x3F6C835E#32
  | 87 => 0xBE47C5C2#32
  | 88 => 0xBF800000#32
  | 89 => 0xBE47C5C2#32
  | 90 => 0x3F6C835E#32
  | 91 => 0x3F0E39DA#32
  | 92 => 0xBF3504F3#32
  | 93 => 0xBF54DB31#32
  | 94 => 0x3EC3EF15#32
  | 95 => 0x3F7B14BE#32
  | 96 => 0x80000000#32
  | 97 => 0xBF7B14BE#32
  | 98 => 0xBEC3EF15#32
  | 99 => 0x3F54DB31#32
  | 100 => 0x3F3504F3#32
  | 101 => 0xBF0E39DA#32
  | 102 => 0xBF6C835E#32
  | 103 => 0x3E47C5C2#32
  | 104 => 0x3F800000#32
  | 105 => 0x3E47C5C2#32
  | 106 => 0xBF6C835E#32
  | 107 => 0xBF0E39DA#32
  | 108 => 0x3F3504F3#32
  | 109 => 0x3F54DB31#32
  | 110 => 0xBEC3EF15#32
  | 111 => 0xBF7B14BE#32
  | 112 => 0xA50D3132#32
  | 113 => 0x3F7B14BE#32
  | 114 => 0x3EC3EF15#32
  | 115 => 0xBF54DB31#32
  | 116 => 0xBF3504F3#32
  | 117 => 0x3F0E39DA#32
  | 118 => 0x3F6C835E#32
  | 119 => 0xBE47C5C2#32
  | 120 => 0xBF800000#32
  | 121 => 0xBE47C5C2#32
  | 122 => 0x3F6C835E#32
  | 123 => 0x3F0E39DA#32
  | 124 => 0xBF3504F3#32
  | 125 => 0xBF54DB31#32
  | 126 => 0x3EC3EF15#32
  | 127 => 0x3F7B14BE#32
  | _ => 0#32

noncomputable abbrev lit1t0_143 (i : Nat) : BitVec 32 := match i % 128 with
  | 0 => 0x80000000#32
  | 1 => 0xBF7B14BE#32
  | 2 => 0xBEC3EF15#32
  | 3 => 0x3F54DB31#32
  | 4 => 0x3F3504F3#32
  | 5 => 0xBF0E39DA#32
  | 6 => 0xBF6C835E#32
  | 7 => 0x3E47C5C2#32
  | 8 => 0x3F800000#32
  | 9 => 0x3E47C5C2#32
  | 10 => 0xBF6C835E#32
  | 11 => 0xBF0E39DA#32
  | 12 => 0x3F3504F3#32
  | 13 => 0x3F54DB31#32
  | 14 => 0xBEC3EF15#32
  | 15 => 0xBF7B14BE#32
  | 16 => 0xA50D3132#32
  | 17 => 0x3F7B14BE#32
  | 18 => 0x3EC3EF15#32
  | 19 => 0xBF54DB31#32
  | 20 => 0xBF3504F3#32
  | 21 => 0x3F0E39DA#32
  | 22 => 0x3F6C835E#32
  | 23 => 0xBE47C5C2#32
  | 24 => 0xBF800000#32
  | 25 => 0xBE47C5C2#32
  | 26 => 0x3F6C835E#32
  | 27 => 0x3F0E39DA#32
  | 28 => 0xBF3504F3#32
  | 29 => 0xBF54DB31#32
  | 30 => 0x3EC3EF15#32
  | 31 => 0x3F7B14BE#32
  | 32 => 0x80000000#32
  | 33 => 0xBF7B14BE#32
  | 34 => 0xBEC3EF15#32
  | 35 => 0x3F54DB31#32
  | 36 => 0x3F3504F3#32
  | 37 => 0xBF0E39DA#32
  | 38 => 0xBF6C835E#32
  | 39 => 0x3E47C5C2#32
  | 40 => 0x3F800000#32
  | 41 => 0x3E47C5C2#32
  | 42 => 0xBF6C835E#32
  | 43 => 0xBF0E39DA#32
  | 44 => 0x3F3504F3#32
  | 45 => 0x3F54DB31#32
  | 46 => 0xBEC3EF15#32
  | 47 => 0xBF7B14BE#32
  | 48 => 0xA50D3132#32
  | 49 => 0x3F7B14BE#32
  | 50 => 0x3EC3EF15#32
  | 51 => 0xBF54DB31#32
  | 52 => 0xBF3504F3#32
  | 53 => 0x3F0E39DA#32
  | 54 => 0x3F6C835E#32
  | 55 => 0xBE47C5C2#32
  | 56 => 0xBF800000#32
  | 57 => 0xBE47C5C2#32
  | 58 => 0x3F6C835E#32
  | 59 => 0x3F0E39DA#32
  | 60 => 0xBF3504F3#32
  | 61 => 0xBF54DB31#32
  | 62 => 0x3EC3EF15#32
  | 63 => 0x3F7B14BE#32
  | 64 => 0x80000000#32
  | 65 => 0xBF7B14BE#32
  | 66 => 0xBEC3EF15#32
  | 67 => 0x3F54DB31#32
  | 68 => 0x3F3504F3#32
  | 69 => 0xBF0E39DA#32
  | 70 => 0xBF6C835E#32
  | 71 => 0x3E47C5C2#32
  | 72 => 0x3F800000#32
  | 73 => 0x3E47C5C2#32
  | 74 => 0xBF6C835E#32
  | 75 => 0xBF0E39DA#32
  | 76 => 0x3F3504F3#32
  | 77 => 0x3F54DB31#32
  | 78 => 0xBEC3EF15#32
  | 79 => 0xBF7B14BE#32
  | 80 => 0xA50D3132#32
  | 81 => 0x3F7B14BE#32
  | 82 => 0x3EC3EF15#32
  | 83 => 0xBF54DB31#32
  | 84 => 0xBF3504F3#32
  | 85 => 0x3F0E39DA#32
  | 86 => 0x3F6C835E#32
  | 87 => 0xBE47C5C2#32
  | 88 => 0xBF800000#32
  | 89 => 0xBE47C5C2#32
  | 90 => 0x3F6C835E#32
  | 91 => 0x3F0E39DA#32
  | 92 => 0xBF3504F3#32
  | 93 => 0xBF54DB31#32
  | 94 => 0x3EC3EF15#32
  | 95 => 0x3F7B14BE#32
  | 96 => 0x80000000#32
  | 97 => 0xBF7B14BE#32
  | 98 => 0xBEC3EF15#32
  | 99 => 0x3F54DB31#32
  | 100 => 0x3F3504F3#32
  | 101 => 0xBF0E39DA#32
  | 102 => 0xBF6C835E#32
  | 103 => 0x3E47C5C2#32
  | 104 => 0x3F800000#32
  | 105 => 0x3E47C5C2#32
  | 106 => 0xBF6C835E#32
  | 107 => 0xBF0E39DA#32
  | 108 => 0x3F3504F3#32
  | 109 => 0x3F54DB31#32
  | 110 => 0xBEC3EF15#32
  | 111 => 0xBF7B14BE#32
  | 112 => 0xA50D3132#32
  | 113 => 0x3F7B14BE#32
  | 114 => 0x3EC3EF15#32
  | 115 => 0xBF54DB31#32
  | 116 => 0xBF3504F3#32
  | 117 => 0x3F0E39DA#32
  | 118 => 0x3F6C835E#32
  | 119 => 0xBE47C5C2#32
  | 120 => 0xBF800000#32
  | 121 => 0xBE47C5C2#32
  | 122 => 0x3F6C835E#32
  | 123 => 0x3F0E39DA#32
  | 124 => 0xBF3504F3#32
  | 125 => 0xBF54DB31#32
  | 126 => 0x3EC3EF15#32
  | 127 => 0x3F7B14BE#32
  | _ => 0#32

noncomputable abbrev lit1t0_144 (i : Nat) : BitVec 32 := match i % 128 with
  | 0 => 0x80000000#32
  | 1 => 0xBF7C1C5C#32
  | 2 => 0xBEAF1D44#32
  | 3 => 0x3F5DB3D7#32
  | 4 => 0x3F248DBB#32
  | 5 => 0xBF248DBB#32
  | 6 => 0xBF5DB3D7#32
  | 7 => 0x3EAF1D44#32
  | 8 => 0x3F7C1C5C#32
  | 9 => 0x80000000#32
  | 10 => 0xBF7C1C5C#32
  | 11 => 0xBEAF1D44#32
  | 12 => 0x3F5DB3D7#32
  | 13 => 0x3F248DBB#32
  | 14 => 0xBF248DBB#32
  | 15 => 0xBF5DB3D7#32
  | 16 => 0x3EAF1D44#32
  | 17 => 0x3F7C1C5C#32
  | 18 => 0x80000000#32
  | 19 => 0xBF7C1C5C#32
  | 20 => 0xBEAF1D44#32
  | 21 => 0x3F5DB3D7#32
  | 22 => 0x3F248DBB#32
  | 23 => 0xBF248DBB#32
  | 24 => 0xBF5DB3D7#32
  | 25 => 0x3EAF1D44#32
  | 26 => 0x3F7C1C5C#32
  | 27 => 0x80000000#32
  | 28 => 0xBF7C1C5C#32
  | 29 => 0xBEAF1D44#32
  | 30 => 0x3F5DB3D7#32
  | 31 => 0x3F248DBB#32
  | 32 => 0xBF248DBB#32
  | 33 => 0xBF5DB3D7#32
  | 34 => 0x3EAF1D44#32
  | 35 => 0x3F7C1C5C#32
  | 36 => 0x80000000#32
  | 37 => 0xBF7C1C5C#32
  | 38 => 0xBEAF1D44#32
  | 39 => 0x3F5DB3D7#32
  | 40 => 0x3F248DBB#32
  | 41 => 0xBF248DBB#32
  | 42 => 0xBF5DB3D7#32
  | 43 => 0x3EAF1D44#32
  | 44 => 0x3F7C1C5C#32
  | 45 => 0x80000000#32
  | 46 => 0xBF7C1C5C#32
  | 47 => 0xBEAF1D44#32
  | 48 => 0x3F5DB3D7#32
  | 49 => 0x3F248DBB#32
  | 50 => 0xBF248DBB#32
  | 51 => 0xBF5DB3D7#32
  | 52 => 0x3EAF1D44#32
  | 53 => 0x3F7C1C5C#32
  | 54 => 0x80000000#32
  | 55 => 0xBF7C1C5C#32
  | 56 => 0xBEAF1D44#32
  | 57 => 0x3F5DB3D7#32
  | 58 => 0x3F248DBB#32
  | 59 => 0xBF248DBB#32
  | 60 => 0xBF5DB3D7#32
  | 61 => 0x3EAF1D44#32
  | 62 => 0x3F7C1C5C#32
  | 63 => 0x80000000#32
  | 64 => 0xBF7C1C5C#32
  | 65 => 0xBEAF1D44#32
  | 66 => 0x3F5DB3D7#32
  | 67 => 0x3F248DBB#32
  | 68 => 0xBF248DBB#32
  | 69 => 0xBF5DB3D7#32
  | 70 => 0x3EAF1D44#32
  | 71 => 0x3F7C1C5C#32
  | 72 => 0x80000000#32
  | 73 => 0xBF7C1C5C#32
  | 74 => 0xBEAF1D44#32
  | 75 => 0x3F5DB3D7#32
  | 76 => 0x3F248DBB#32
  | 77 => 0xBF248DBB#32
  | 78 => 0xBF5DB3D7#32
  | 79 => 0x3EAF1D44#32
  | 80 => 0x3F7C1C5C#32
  | 81 => 0x80000000#32
  | 82 => 0xBF7C1C5C#32
  | 83 => 0xBEAF1D44#32
  | 84 => 0x3F5DB3D7#32
  | 85 => 0x3F248DBB#32
  | 86 => 0xBF248DBB#32
  | 87 => 0xBF5DB3D7#32
  | 88 => 0x3EAF1D44#32
  | 89 => 0x3F7C1C5C#32
  | 90 => 0x80000000#32
  | 91 => 0xBF7C1C5C#32
  | 92 => 0xBEAF1D44#32
  | 93 => 0x3F5DB3D7#32
  | 94 => 0x3F248DBB#32
  | 95 => 0xBF248DBB#32
  | 96 => 0xBF5DB3D7#32
  | 97 => 0x3EAF1D44#32
  | 98 => 0x3F7C1C5C#32
  | 99 => 0x80000000#32
  | 100 => 0xBF7C1C5C#32
  | 101 => 0xBEAF1D44#32
  | 102 => 0x3F5DB3D7#32
  | 103 => 0x3F248DBB#32
  | 104 => 0xBF248DBB#32
  | 105 => 0xBF5DB3D7#32
  | 106 => 0x3EAF1D44#32
  | 107 => 0x3F7C1C5C#32
  | 108 => 0x80000000#32
  | 109 => 0xBF7C1C5C#32
  | 110 => 0xBEAF1D44#32
  | 111 => 0x3F5DB3D7#32
  | 112 => 0x3F248DBB#32
  | 113 => 0xBF248DBB#32
  | 114 => 0xBF5DB3D7#32
  | 115 => 0x3EAF1D44#32
  | 116 => 0x3F7C1C5C#32
  | 117 => 0x80000000#32
  | 118 => 0xBF7C1C5C#32
  | 119 => 0xBEAF1D44#32
  | 120 => 0x3F5DB3D7#32
  | 121 => 0x3F248DBB#32
  | 122 => 0xBF248DBB#32
  | 123 => 0xBF5DB3D7#32
  | 124 => 0x3EAF1D44#32
  | 125 => 0x3F7C1C5C#32
  | 126 => 0x80000000#32
  | 127 => 0xBF7C1C5C#32
  | _ => 0#32

noncomputable abbrev lit1t0_145 (i : Nat) : BitVec 32 := match i % 128 with
  | 0 => 0xBEAF1D44#32
  | 1 => 0x3F5DB3D7#32
  | 2 => 0x3F248DBB#32
  | 3 => 0xBF248DBB#32
  | 4 => 0xBF5DB3D7#32
  | 5 => 0x3EAF1D44#32
  | 6 => 0x3F7C1C5C#32
  | 7 => 0x80000000#32
  | 8 => 0xBF7C1C5C#32
  | 9 => 0xBEAF1D44#32
  | 10 => 0x3F5DB3D7#32
  | 11 => 0x3F248DBB#32
  | 12 => 0xBF248DBB#32
  | 13 => 0xBF5DB3D7#32
  | 14 => 0x3EAF1D44#32
  | 15 => 0x3F7C1C5C#32
  | 16 => 0x80000000#32
  | 17 => 0xBF7C1C5C#32
  | 18 => 0xBEAF1D44#32
  | 19 => 0x3F5DB3D7#32
  | 20 => 0x3F248DBB#32
  | 21 => 0xBF248DBB#32
  | 22 => 0xBF5DB3D7#32
  | 23 => 0x3EAF1D44#32
  | 24 => 0x3F7C1C5C#32
  | 25 => 0x80000000#32
  | 26 => 0xBF7C1C5C#32
  | 27 => 0xBEAF1D44#32
  | 28 => 0x3F5DB3D7#32
  | 29 => 0x3F248DBB#32
  | 30 => 0xBF248DBB#32
  | 31 => 0xBF5DB3D7#32
  | 32 => 0x3EAF1D44#32
  | 33 => 0x3F7C1C5C#32
  | 34 => 0x80000000#32
  | 35 => 0xBF7C1C5C#32
  | 36 => 0xBEAF1D44#32
  | 37 => 0x3F5DB3D7#32
  | 38 => 0x3F248DBB#32
  | 39 => 0xBF248DBB#32
  | 40 => 0xBF5DB3D7#32
  | 41 => 0x3EAF1D44#32
  | 42 => 0x3F7C1C5C#32
  | 43 => 0x80000000#32
  | 44 => 0xBF7C1C5C#32
  | 45 => 0xBEAF1D44#32
  | 46 => 0x3F5DB3D7#32
  | 47 => 0x3F248DBB#32
  | 48 => 0xBF248DBB#32
  | 49 => 0xBF5DB3D7#32
  | 50 => 0x3EAF1D44#32
  | 51 => 0x3F7C1C5C#32
  | 52 => 0x80000000#32
  | 53 => 0xBF7C1C5C#32
  | 54 => 0xBEAF1D44#32
  | 55 => 0x3F5DB3D7#32
  | 56 => 0x3F248DBB#32
  | 57 => 0xBF248DBB#32
  | 58 => 0xBF5DB3D7#32
  | 59 => 0x3EAF1D44#32
  | 60 => 0x3F7C1C5C#32
  | 61 => 0x80000000#32
  | 62 => 0xBF7C1C5C#32
  | 63 => 0xBEAF1D44#32
  | 64 => 0x3F5DB3D7#32
  | 65 => 0x3F248DBB#32
  | 66 => 0xBF248DBB#32
  | 67 => 0xBF5DB3D7#32
  | 68 => 0x3EAF1D44#32
  | 69 => 0x3F7C1C5C#32
  | 70 => 0x80000000#32
  | 71 => 0xBF7C1C5C#32
  | 72 => 0xBEAF1D44#32
  | 73 => 0x3F5DB3D7#32
  | 74 => 0x3F248DBB#32
  | 75 => 0xBF248DBB#32
  | 76 => 0xBF5DB3D7#32
  | 77 => 0x3EAF1D44#32
  | 78 => 0x3F7C1C5C#32
  | 79 => 0x80000000#32
  | 80 => 0xBF7C1C5C#32
  | 81 => 0xBEAF1D44#32
  | 82 => 0x3F5DB3D7#32
  | 83 => 0x3F248DBB#32
  | 84 => 0xBF248DBB#32
  | 85 => 0xBF5DB3D7#32
  | 86 => 0x3EAF1D44#32
  | 87 => 0x3F7C1C5C#32
  | 88 => 0x80000000#32
  | 89 => 0xBF7C1C5C#32
  | 90 => 0xBEAF1D44#32
  | 91 => 0x3F5DB3D7#32
  | 92 => 0x3F248DBB#32
  | 93 => 0xBF248DBB#32
  | 94 => 0xBF5DB3D7#32
  | 95 => 0x3EAF1D44#32
  | 96 => 0x3F7C1C5C#32
  | 97 => 0x80000000#32
  | 98 => 0xBF7C1C5C#32
  | 99 => 0xBEAF1D44#32
  | 100 => 0x3F5DB3D7#32
  | 101 => 0x3F248DBB#32
  | 102 => 0xBF248DBB#32
  | 103 => 0xBF5DB3D7#32
  | 104 => 0x3EAF1D44#32
  | 105 => 0x3F7C1C5C#32
  | 106 => 0x80000000#32
  | 107 => 0xBF7C1C5C#32
  | 108 => 0xBEAF1D44#32
  | 109 => 0x3F5DB3D7#32
  | 110 => 0x3F248DBB#32
  | 111 => 0xBF248DBB#32
  | 112 => 0xBF5DB3D7#32
  | 113 => 0x3EAF1D44#32
  | 114 => 0x3F7C1C5C#32
  | 115 => 0x80000000#32
  | 116 => 0xBF7C1C5C#32
  | 117 => 0xBEAF1D44#32
  | 118 => 0x3F5DB3D7#32
  | 119 => 0x3F248DBB#32
  | 120 => 0xBF248DBB#32
  | 121 => 0xBF5DB3D7#32
  | 122 => 0x3EAF1D44#32
  | 123 => 0x3F7C1C5C#32
  | 124 => 0x80000000#32
  | 125 => 0xBF7C1C5C#32
  | 126 => 0xBEAF1D44#32
  | 127 => 0x3F5DB3D7#32
  | _ => 0#32

noncomputable abbrev lit1t0_146 (i : Nat) : BitVec 32 := match i % 128 with
  | 0 => 0x3F248DBB#32
  | 1 => 0xBF248DBB#32
  | 2 => 0xBF5DB3D7#32
  | 3 => 0x3EAF1D44#32
  | 4 => 0x3F7C1C5C#32
  | 5 => 0x80000000#32
  | 6 => 0xBF7C1C5C#32
  | 7 => 0xBEAF1D44#32
  | 8 => 0x3F5DB3D7#32
  | 9 => 0x3F248DBB#32
  | 10 => 0xBF248DBB#32
  | 11 => 0xBF5DB3D7#32
  | 12 => 0x3EAF1D44#32
  | 13 => 0x3F7C1C5C#32
  | 14 => 0x80000000#32
  | 15 => 0xBF7C1C5C#32
  | 16 => 0xBEAF1D44#32
  | 17 => 0x3F5DB3D7#32
  | 18 => 0x3F248DBB#32
  | 19 => 0xBF248DBB#32
  | 20 => 0xBF5DB3D7#32
  | 21 => 0x3EAF1D44#32
  | 22 => 0x3F7C1C5C#32
  | 23 => 0x80000000#32
  | 24 => 0xBF7C1C5C#32
  | 25 => 0xBEAF1D44#32
  | 26 => 0x3F5DB3D7#32
  | 27 => 0x3F248DBB#32
  | 28 => 0xBF248DBB#32
  | 29 => 0xBF5DB3D7#32
  | 30 => 0x3EAF1D44#32
  | 31 => 0x3F7C1C5C#32
  | 32 => 0x80000000#32
  | 33 => 0xBF7D0543#32
  | 34 => 0xBE99F61C#32
  | 35 => 0x3F659974#32
  | 36 => 0x3F12D5E8#32
  | 37 => 0xBF38ECD8#32
  | 38 => 0xBF4B1934#32
  | 39 => 0x3EF64429#32
  | 40 => 0x3F708FB2#32
  | 41 => 0xBE47C5C2#32
  | 42 => 0xBF7FC1A0#32
  | 43 => 0xBDDEF599#32
  | 44 => 0x3F7746EA#32
  | 45 => 0x3ECE34D0#32
  | 46 => 0xBF57E880#32
  | 47 => 0xBF28CAE3#32
  | 48 => 0x3F248DBB#32
  | 49 => 0x3F5ADB81#32
  | 50 => 0xBEC3EF15#32
  | 51 => 0xBF78A9E0#32
  | 52 => 0x3DB27EB6#32
  | 53 => 0x3F7F73AF#32
  | 54 => 0x3E5DA259#32
  | 55 => 0xBF6E9811#32
  | 56 => 0xBF000000#32
  | 57 => 0x3F47A682#32
  | 58 => 0x3F3CBE35#32
  | 59 => 0xBF0E39DA#32
  | 60 => 0xBF6803CA#32
  | 61 => 0x3E8F45C0#32
  | 62 => 0x3F7DCF55#32
  | 63 => 0x3CB2B521#32
  | 64 => 0xBF7C1C5C#32
  | 65 => 0xBEA493B7#32
  | 66 => 0x3F631324#32
  | 67 => 0x3F176012#32
  | 68 => 0xBF3504F3#32
  | 69 => 0xBF4E7327#32
  | 70 => 0x3EEC6A50#32
  | 71 => 0x3F726A03#32
  | 72 => 0xBE31D0D4#32
  | 73 => 0xBF7FF067#32
  | 74 => 0xBE05A8A8#32
  | 75 => 0x3F75C5D4#32
  | 76 => 0x3ED8616C#32
  | 77 => 0xBF54DB31#32
  | 78 => 0xBF2CF37B#32
  | 79 => 0x3F203C85#32
  | 80 => 0x3F5DB3D7#32
  | 81 => 0xBEB9917B#32
  | 82 => 0xBF79EE89#32
  | 83 => 0x3D85F213#32
  | 84 => 0x3F7F069E#32
  | 85 => 0x3E7363EE#32
  | 86 => 0xBF6C835E#32
  | 87 => 0xBF04CE53#32
  | 88 => 0x3F441B7D#32
  | 89 => 0x3F407893#32
  | 90 => 0xBF098C78#32
  | 91 => 0xBF6A51DA#32
  | 92 => 0x3E8483EE#32
  | 93 => 0x3F7E7A7A#32
  | 94 => 0x3D32AA3E#32
  | 95 => 0xBF7B14BE#32
  | 96 => 0xBEAF1D44#32
  | 97 => 0x3F60712A#32
  | 98 => 0x3F1BD7CA#32
  | 99 => 0xBF310700#32
  | 100 => 0xBF51B3F3#32
  | 101 => 0x3EE273AA#32
  | 102 => 0x3F7426CB#32
  | 103 => 0xBE1BC63C#32
  | 104 => 0xBF800000#32
  | 105 => 0xBE1BC63C#32
  | 106 => 0x3F7426CB#32
  | 107 => 0x3EE273AA#32
  | 108 => 0xBF51B3F3#32
  | 109 => 0xBF310700#32
  | 110 => 0x3F1BD7CA#32
  | 111 => 0x3F60712A#32
  | 112 => 0xBEAF1D44#32
  | 113 => 0xBF7B14BE#32
  | 114 => 0x3D32AA3E#32
  | 115 => 0x3F7E7A7A#32
  | 116 => 0x3E8483EE#32
  | 117 => 0xBF6A51DA#32
  | 118 => 0xBF098C78#32
  | 119 => 0x3F407893#32
  | 120 => 0x3F441B7D#32
  | 121 => 0xBF04CE53#32
  | 122 => 0xBF6C835E#32
  | 123 => 0x3E7363EE#32
  | 124 => 0x3F7F069E#32
  | 125 => 0x3D85F213#32
  | 126 => 0xBF79EE89#32
  | 127 => 0xBEB9917B#32
  | _ => 0#32

noncomputable abbrev lit1t0_147 (i : Nat) : BitVec 32 := match i % 128 with
  | 0 => 0x3F5DB3D7#32
  | 1 => 0x3F203C85#32
  | 2 => 0xBF2CF37B#32
  | 3 => 0xBF54DB31#32
  | 4 => 0x3ED8616C#32
  | 5 => 0x3F75C5D4#32
  | 6 => 0xBE05A8A8#32
  | 7 => 0xBF7FF067#32
  | 8 => 0xBE31D0D4#32
  | 9 => 0x3F726A03#32
  | 10 => 0x3EEC6A50#32
  | 11 => 0xBF4E7327#32
  | 12 => 0xBF3504F3#32
  | 13 => 0x3F176012#32
  | 14 => 0x3F631324#32
  | 15 => 0xBEA493B7#32
  | 16 => 0xBF7C1C5C#32
  | 17 => 0x3CB2B521#32
  | 18 => 0x3F7DCF55#32
  | 19 => 0x3E8F45C0#32
  | 20 => 0xBF6803CA#32
  | 21 => 0xBF0E39DA#32
  | 22 => 0x3F3CBE35#32
  | 23 => 0x3F47A682#32
  | 24 => 0xBF000000#32
  | 25 => 0xBF6E9811#32
  | 26 => 0x3E5DA259#32
  | 27 => 0x3F7F73AF#32
  | 28 => 0x3DB27EB6#32
  | 29 => 0xBF78A9E0#32
  | 30 => 0xBEC3EF15#32
  | 31 => 0x3F5ADB81#32
  | 32 => 0x3F248DBB#32
  | 33 => 0xBF28CAE3#32
  | 34 => 0xBF57E880#32
  | 35 => 0x3ECE34D0#32
  | 36 => 0x3F7746EA#32
  | 37 => 0xBDDEF599#32
  | 38 => 0xBF7FC1A0#32
  | 39 => 0xBE47C5C2#32
  | 40 => 0x3F708FB2#32
  | 41 => 0x3EF64429#32
  | 42 => 0xBF4B1934#32
  | 43 => 0xBF38ECD8#32
  | 44 => 0x3F12D5E8#32
  | 45 => 0x3F659974#32
  | 46 => 0xBE99F61C#32
  | 47 => 0xBF7D0543#32
  | 48 => 0xA50D3132#32
  | 49 => 0x3F7D0543#32
  | 50 => 0x3E99F61C#32
  | 51 => 0xBF659974#32
  | 52 => 0xBF12D5E8#32
  | 53 => 0x3F38ECD8#32
  | 54 => 0x3F4B1934#32
  | 55 => 0xBEF64429#32
  | 56 => 0xBF708FB2#32
  | 57 => 0x3E47C5C2#32
  | 58 => 0x3F7FC1A0#32
  | 59 => 0x3DDEF599#32
  | 60 => 0xBF7746EA#32
  | 61 => 0xBECE34D0#32
  | 62 => 0x3F57E880#32
  | 63 => 0x3F28CAE3#32
  | 64 => 0xBF248DBB#32
  | 65 => 0xBF5ADB81#32
  | 66 => 0x3EC3EF15#32
  | 67 => 0x3F78A9E0#32
  | 68 => 0xBDB27EB6#32
  | 69 => 0xBF7F73AF#32
  | 70 => 0xBE5DA259#32
  | 71 => 0x3F6E9811#32
  | 72 => 0x3F000000#32
  | 73 => 0xBF47A682#32
  | 74 => 0xBF3CBE35#32
  | 75 => 0x3F0E39DA#32
  | 76 => 0x3F6803CA#32
  | 77 => 0xBE8F45C0#32
  | 78 => 0xBF7DCF55#32
  | 79 => 0xBCB2B521#32
  | 80 => 0x3F7C1C5C#32
  | 81 => 0x3EA493B7#32
  | 82 => 0xBF631324#32
  | 83 => 0xBF176012#32
  | 84 => 0x3F3504F3#32
  | 85 => 0x3F4E7327#32
  | 86 => 0xBEEC6A50#32
  | 87 => 0xBF726A03#32
  | 88 => 0x3E31D0D4#32
  | 89 => 0x3F7FF067#32
  | 90 => 0x3E05A8A8#32
  | 91 => 0xBF75C5D4#32
  | 92 => 0xBED8616C#32
  | 93 => 0x3F54DB31#32
  | 94 => 0x3F2CF37B#32
  | 95 => 0xBF203C85#32
  | 96 => 0xBF5DB3D7#32
  | 97 => 0x3EB9917B#32
  | 98 => 0x3F79EE89#32
  | 99 => 0xBD85F213#32
  | 100 => 0xBF7F069E#32
  | 101 => 0xBE7363EE#32
  | 102 => 0x3F6C835E#32
  | 103 => 0x3F04CE53#32
  | 104 => 0xBF441B7D#32
  | 105 => 0xBF407893#32
  | 106 => 0x3F098C78#32
  | 107 => 0x3F6A51DA#32
  | 108 => 0xBE8483EE#32
  | 109 => 0xBF7E7A7A#32
  | 110 => 0xBD32AA3E#32
  | 111 => 0x3F7B14BE#32
  | 112 => 0x3EAF1D44#32
  | 113 => 0xBF60712A#32
  | 114 => 0xBF1BD7CA#32
  | 115 => 0x3F310700#32
  | 116 => 0x3F51B3F3#32
  | 117 => 0xBEE273AA#32
  | 118 => 0xBF7426CB#32
  | 119 => 0x3E1BC63C#32
  | 120 => 0x3F800000#32
  | 121 => 0x3E1BC63C#32
  | 122 => 0xBF7426CB#32
  | 123 => 0xBEE273AA#32
  | 124 => 0x3F51B3F3#32
  | 125 => 0x3F310700#32
  | 126 => 0xBF1BD7CA#32
  | 127 => 0xBF60712A#32
  | _ => 0#32

noncomputable abbrev lit1t0_148 (i : Nat) : BitVec 32 := match i % 128 with
  | 0 => 0x3EAF1D44#32
  | 1 => 0x3F7B14BE#32
  | 2 => 0xBD32AA3E#32
  | 3 => 0xBF7E7A7A#32
  | 4 => 0xBE8483EE#32
  | 5 => 0x3F6A51DA#32
  | 6 => 0x3F098C78#32
  | 7 => 0xBF407893#32
  | 8 => 0xBF441B7D#32
  | 9 => 0x3F04CE53#32
  | 10 => 0x3F6C835E#32
  | 11 => 0xBE7363EE#32
  | 12 => 0xBF7F069E#32
  | 13 => 0xBD85F213#32
  | 14 => 0x3F79EE89#32
  | 15 => 0x3EB9917B#32
  | 16 => 0xBF5DB3D7#32
  | 17 => 0xBF203C85#32
  | 18 => 0x3F2CF37B#32
  | 19 => 0x3F54DB31#32
  | 20 => 0xBED8616C#32
  | 21 => 0xBF75C5D4#32
  | 22 => 0x3E05A8A8#32
  | 23 => 0x3F7FF067#32
  | 24 => 0x3E31D0D4#32
  | 25 => 0xBF726A03#32
  | 26 => 0xBEEC6A50#32
  | 27 => 0x3F4E7327#32
  | 28 => 0x3F3504F3#32
  | 29 => 0xBF176012#32
  | 30 => 0xBF631324#32
  | 31 => 0x3EA493B7#32
  | 32 => 0x3F7C1C5C#32
  | 33 => 0xBCB2B521#32
  | 34 => 0xBF7DCF55#32
  | 35 => 0xBE8F45C0#32
  | 36 => 0x3F6803CA#32
  | 37 => 0x3F0E39DA#32
  | 38 => 0xBF3CBE35#32
  | 39 => 0xBF47A682#32
  | 40 => 0x3F000000#32
  | 41 => 0x3F6E9811#32
  | 42 => 0xBE5DA259#32
  | 43 => 0xBF7F73AF#32
  | 44 => 0xBDB27EB6#32
  | 45 => 0x3F78A9E0#32
  | 46 => 0x3EC3EF15#32
  | 47 => 0xBF5ADB81#32
  | 48 => 0xBF248DBB#32
  | 49 => 0x3F28CAE3#32
  | 50 => 0x3F57E880#32
  | 51 => 0xBECE34D0#32
  | 52 => 0xBF7746EA#32
  | 53 => 0x3DDEF599#32
  | 54 => 0x3F7FC1A0#32
  | 55 => 0x3E47C5C2#32
  | 56 => 0xBF708FB2#32
  | 57 => 0xBEF64429#32
  | 58 => 0x3F4B1934#32
  | 59 => 0x3F38ECD8#32
  | 60 => 0xBF12D5E8#32
  | 61 => 0xBF659974#32
  | 62 => 0x3E99F61C#32
  | 63 => 0x3F7D0543#32
  | 64 => 0x80000000#32
  | 65 => 0xBF7DCF55#32
  | 66 => 0xBE8483EE#32
  | 67 => 0x3F6C835E#32
  | 68 => 0x3F000000#32
  | 69 => 0xBF4B1934#32
  | 70 => 0xBF3504F3#32
  | 71 => 0x3F1BD7CA#32
  | 72 => 0x3F5DB3D7#32
  | 73 => 0xBEC3EF15#32
  | 74 => 0xBF7746EA#32
  | 75 => 0x3E05A8A8#32
  | 76 => 0x3F800000#32
  | 77 => 0x3E05A8A8#32
  | 78 => 0xBF7746EA#32
  | 79 => 0xBEC3EF15#32
  | 80 => 0x3F5DB3D7#32
  | 81 => 0x3F1BD7CA#32
  | 82 => 0xBF3504F3#32
  | 83 => 0xBF4B1934#32
  | 84 => 0x3F000000#32
  | 85 => 0x3F6C835E#32
  | 86 => 0xBE8483EE#32
  | 87 => 0xBF7DCF55#32
  | 88 => 0xA50D3132#32
  | 89 => 0x3F7DCF55#32
  | 90 => 0x3E8483EE#32
  | 91 => 0xBF6C835E#32
  | 92 => 0xBF000000#32
  | 93 => 0x3F4B1934#32
  | 94 => 0x3F3504F3#32
  | 95 => 0xBF1BD7CA#32
  | 96 => 0xBF5DB3D7#32
  | 97 => 0x3EC3EF15#32
  | 98 => 0x3F7746EA#32
  | 99 => 0xBE05A8A8#32
  | 100 => 0xBF800000#32
  | 101 => 0xBE05A8A8#32
  | 102 => 0x3F7746EA#32
  | 103 => 0x3EC3EF15#32
  | 104 => 0xBF5DB3D7#32
  | 105 => 0xBF1BD7CA#32
  | 106 => 0x3F3504F3#32
  | 107 => 0x3F4B1934#32
  | 108 => 0xBF000000#32
  | 109 => 0xBF6C835E#32
  | 110 => 0x3E8483EE#32
  | 111 => 0x3F7DCF55#32
  | 112 => 0x80000000#32
  | 113 => 0xBF7DCF55#32
  | 114 => 0xBE8483EE#32
  | 115 => 0x3F6C835E#32
  | 116 => 0x3F000000#32
  | 117 => 0xBF4B1934#32
  | 118 => 0xBF3504F3#32
  | 119 => 0x3F1BD7CA#32
  | 120 => 0x3F5DB3D7#32
  | 121 => 0xBEC3EF15#32
  | 122 => 0xBF7746EA#32
  | 123 => 0x3E05A8A8#32
  | 124 => 0x3F800000#32
  | 125 => 0x3E05A8A8#32
  | 126 => 0xBF7746EA#32
  | 127 => 0xBEC3EF15#32
  | _ => 0#32

noncomputable abbrev lit1t0_149 (i : Nat) : BitVec 32 := match i % 128 with
  | 0 => 0x3F5DB3D7#32
  | 1 => 0x3F1BD7CA#32
  | 2 => 0xBF3504F3#32
  | 3 => 0xBF4B1934#32
  | 4 => 0x3F000000#32
  | 5 => 0x3F6C835E#32
  | 6 => 0xBE8483EE#32
  | 7 => 0xBF7DCF55#32
  | 8 => 0xA50D3132#32
  | 9 => 0x3F7DCF55#32
  | 10 => 0x3E8483EE#32
  | 11 => 0xBF6C835E#32
  | 12 => 0xBF000000#32
  | 13 => 0x3F4B1934#32
  | 14 => 0x3F3504F3#32
  | 15 => 0xBF1BD7CA#32
  | 16 => 0xBF5DB3D7#32
  | 17 => 0x3EC3EF15#32
  | 18 => 0x3F7746EA#32
  | 19 => 0xBE05A8A8#32
  | 20 => 0xBF800000#32
  | 21 => 0xBE05A8A8#32
  | 22 => 0x3F7746EA#32
  | 23 => 0x3EC3EF15#32
  | 24 => 0xBF5DB3D7#32
  | 25 => 0xBF1BD7CA#32
  | 26 => 0x3F3504F3#32
  | 27 => 0x3F4B1934#32
  | 28 => 0xBF000000#32
  | 29 => 0xBF6C835E#32
  | 30 => 0x3E8483EE#32
  | 31 => 0x3F7DCF55#32
  | 32 => 0x80000000#32
  | 33 => 0xBF7DCF55#32
  | 34 => 0xBE8483EE#32
  | 35 => 0x3F6C835E#32
  | 36 => 0x3F000000#32
  | 37 => 0xBF4B1934#32
  | 38 => 0xBF3504F3#32
  | 39 => 0x3F1BD7CA#32
  | 40 => 0x3F5DB3D7#32
  | 41 => 0xBEC3EF15#32
  | 42 => 0xBF7746EA#32
  | 43 => 0x3E05A8A8#32
  | 44 => 0x3F800000#32
  | 45 => 0x3E05A8A8#32
  | 46 => 0xBF7746EA#32
  | 47 => 0xBEC3EF15#32
  | 48 => 0x3F5DB3D7#32
  | 49 => 0x3F1BD7CA#32
  | 50 => 0xBF3504F3#32
  | 51 => 0xBF4B1934#32
  | 52 => 0x3F000000#32
  | 53 => 0x3F6C835E#32
  | 54 => 0xBE8483EE#32
  | 55 => 0xBF7DCF55#32
  | 56 => 0xA50D3132#32
  | 57 => 0x3F7DCF55#32
  | 58 => 0x3E8483EE#32
  | 59 => 0xBF6C835E#32
  | 60 => 0xBF000000#32
  | 61 => 0x3F4B1934#32
  | 62 => 0x3F3504F3#32
  | 63 => 0xBF1BD7CA#32
  | 64 => 0xBF5DB3D7#32
  | 65 => 0x3EC3EF15#32
  | 66 => 0x3F7746EA#32
  | 67 => 0xBE05A8A8#32
  | 68 => 0xBF800000#32
  | 69 => 0xBE05A8A8#32
  | 70 => 0x3F7746EA#32
  | 71 => 0x3EC3EF15#32
  | 72 => 0xBF5DB3D7#32
  | 73 => 0xBF1BD7CA#32
  | 74 => 0x3F3504F3#32
  | 75 => 0x3F4B1934#32
  | 76 => 0xBF000000#32
  | 77 => 0xBF6C835E#32
  | 78 => 0x3E8483EE#32
  | 79 => 0x3F7DCF55#32
  | 80 => 0x80000000#32
  | 81 => 0xBF7DCF55#32
  | 82 => 0xBE8483EE#32
  | 83 => 0x3F6C835E#32
  | 84 => 0x3F000000#32
  | 85 => 0xBF4B1934#32
  | 86 => 0xBF3504F3#32
  | 87 => 0x3F1BD7CA#32
  | 88 => 0x3F5DB3D7#32
  | 89 => 0xBEC3EF15#32
  | 90 => 0xBF7746EA#32
  | 91 => 0x3E05A8A8#32
  | 92 => 0x3F800000#32
  | 93 => 0x3E05A8A8#32
  | 94 => 0xBF7746EA#32
  | 95 => 0xBEC3EF15#32
  | 96 => 0x3F5DB3D7#32
  | 97 => 0x3F1BD7CA#32
  | 98 => 0xBF3504F3#32
  | 99 => 0xBF4B1934#32
  | 100 => 0x3F000000#32
  | 101 => 0x3F6C835E#32
  | 102 => 0xBE8483EE#32
  | 103 => 0xBF7DCF55#32
  | 104 => 0xA50D3132#32
  | 105 => 0x3F7DCF55#32
  | 106 => 0x3E8483EE#32
  | 107 => 0xBF6C835E#32
  | 108 => 0xBF000000#32
  | 109 => 0x3F4B1934#32
  | 110 => 0x3F3504F3#32
  | 111 => 0xBF1BD7CA#32
  | 112 => 0xBF5DB3D7#32
  | 113 => 0x3EC3EF15#32
  | 114 => 0x3F7746EA#32
  | 115 => 0xBE05A8A8#32
  | 116 => 0xBF800000#32
  | 117 => 0xBE05A8A8#32
  | 118 => 0x3F7746EA#32
  | 119 => 0x3EC3EF15#32
  | 120 => 0xBF5DB3D7#32
  | 121 => 0xBF1BD7CA#32
  | 122 => 0x3F3504F3#32
  | 123 => 0x3F4B1934#32
  | 124 => 0xBF000000#32
  | 125 => 0xBF6C835E#32
  | 126 => 0x3E8483EE#32
  | 127 => 0x3F7DCF55#32
  | _ => 0#32

noncomputable abbrev lit1t0_150 (i : Nat) : BitVec 32 := match i % 128 with
  | 0 => 0x80000000#32
  | 1 => 0xBF7DCF55#32
  | 2 => 0xBE8483EE#32
  | 3 => 0x3F6C835E#32
  | 4 => 0x3F000000#32
  | 5 => 0xBF4B1934#32
  | 6 => 0xBF3504F3#32
  | 7 => 0x3F1BD7CA#32
  | 8 => 0x3F5DB3D7#32
  | 9 => 0xBEC3EF15#32
  | 10 => 0xBF7746EA#32
  | 11 => 0x3E05A8A8#32
  | 12 => 0x3F800000#32
  | 13 => 0x3E05A8A8#32
  | 14 => 0xBF7746EA#32
  | 15 => 0xBEC3EF15#32
  | 16 => 0x3F5DB3D7#32
  | 17 => 0x3F1BD7CA#32
  | 18 => 0xBF3504F3#32
  | 19 => 0xBF4B1934#32
  | 20 => 0x3F000000#32
  | 21 => 0x3F6C835E#32
  | 22 => 0xBE8483EE#32
  | 23 => 0xBF7DCF55#32
  | 24 => 0xA50D3132#32
  | 25 => 0x3F7DCF55#32
  | 26 => 0x3E8483EE#32
  | 27 => 0xBF6C835E#32
  | 28 => 0xBF000000#32
  | 29 => 0x3F4B1934#32
  | 30 => 0x3F3504F3#32
  | 31 => 0xBF1BD7CA#32
  | 32 => 0xBF5DB3D7#32
  | 33 => 0x3EC3EF15#32
  | 34 => 0x3F7746EA#32
  | 35 => 0xBE05A8A8#32
  | 36 => 0xBF800000#32
  | 37 => 0xBE05A8A8#32
  | 38 => 0x3F7746EA#32
  | 39 => 0x3EC3EF15#32
  | 40 => 0xBF5DB3D7#32
  | 41 => 0xBF1BD7CA#32
  | 42 => 0x3F3504F3#32
  | 43 => 0x3F4B1934#32
  | 44 => 0xBF000000#32
  | 45 => 0xBF6C835E#32
  | 46 => 0x3E8483EE#32
  | 47 => 0x3F7DCF55#32
  | 48 => 0x80000000#32
  | 49 => 0xBF7DCF55#32
  | 50 => 0xBE8483EE#32
  | 51 => 0x3F6C835E#32
  | 52 => 0x3F000000#32
  | 53 => 0xBF4B1934#32
  | 54 => 0xBF3504F3#32
  | 55 => 0x3F1BD7CA#32
  | 56 => 0x3F5DB3D7#32
  | 57 => 0xBEC3EF15#32
  | 58 => 0xBF7746EA#32
  | 59 => 0x3E05A8A8#32
  | 60 => 0x3F800000#32
  | 61 => 0x3E05A8A8#32
  | 62 => 0xBF7746EA#32
  | 63 => 0xBEC3EF15#32
  | 64 => 0x3F5DB3D7#32
  | 65 => 0x3F1BD7CA#32
  | 66 => 0xBF3504F3#32
  | 67 => 0xBF4B1934#32
  | 68 => 0x3F000000#32
  | 69 => 0x3F6C835E#32
  | 70 => 0xBE8483EE#32
  | 71 => 0xBF7DCF55#32
  | 72 => 0xA50D3132#32
  | 73 => 0x3F7DCF55#32
  | 74 => 0x3E8483EE#32
  | 75 => 0xBF6C835E#32
  | 76 => 0xBF000000#32
  | 77 => 0x3F4B1934#32
  | 78 => 0x3F3504F3#32
  | 79 => 0xBF1BD7CA#32
  | 80 => 0xBF5DB3D7#32
  | 81 => 0x3EC3EF15#32
  | 82 => 0x3F7746EA#32
  | 83 => 0xBE05A8A8#32
  | 84 => 0xBF800000#32
  | 85 => 0xBE05A8A8#32
  | 86 => 0x3F7746EA#32
  | 87 => 0x3EC3EF15#32
  | 88 => 0xBF5DB3D7#32
  | 89 => 0xBF1BD7CA#32
  | 90 => 0x3F3504F3#32
  | 91 => 0x3F4B1934#32
  | 92 => 0xBF000000#32
  | 93 => 0xBF6C835E#32
  | 94 => 0x3E8483EE#32
  | 95 => 0x3F7DCF55#32
  | 96 => 0x80000000#32
  | 97 => 0xBF7E7A7A#32
  | 98 => 0xBE5DA259#32
  | 99 => 0x3F726A03#32
  | 100 => 0x3ED8616C#32
  | 101 => 0xBF5ADB81#32
  | 102 => 0xBF1BD7CA#32
  | 103 => 0x3F38ECD8#32
  | 104 => 0x3F441B7D#32
  | 105 => 0xBF0E39DA#32
  | 106 => 0xBF631324#32
  | 107 => 0x3EB9917B#32
  | 108 => 0x3F7746EA#32
  | 109 => 0xBE1BC63C#32
  | 110 => 0xBF7FC1A0#32
  | 111 => 0xBD85F213#32
  | 112 => 0x3F7C1C5C#32
  | 113 => 0x3E8F45C0#32
  | 114 => 0xBF6C835E#32
  | 115 => 0xBEF64429#32
  | 116 => 0x3F51B3F3#32
  | 117 => 0x3F28CAE3#32
  | 118 => 0xBF2CF37B#32
  | 119 => 0xBF4E7327#32
  | 120 => 0x3F000000#32
  | 121 => 0x3F6A51DA#32
  | 122 => 0xBE99F61C#32
  | 123 => 0xBF7B14BE#32
  | 124 => 0x3DB27EB6#32
  | 125 => 0x3F7FF067#32
  | 126 => 0x3E05A8A8#32
  | 127 => 0xBF78A9E0#32
  | _ => 0#32

noncomputable abbrev lit1t0_151 (i : Nat) : BitVec 32 := match i % 128 with
  | 0 => 0xBEAF1D44#32
  | 1 => 0x3F659974#32
  | 2 => 0x3F098C78#32
  | 3 => 0xBF47A682#32
  | 4 => 0xBF3504F3#32
  | 5 => 0x3F203C85#32
  | 6 => 0x3F57E880#32
  | 7 => 0xBEE273AA#32
  | 8 => 0xBF708FB2#32
  | 9 => 0x3E7363EE#32
  | 10 => 0x3F7DCF55#32
  | 11 => 0xBCB2B521#32
  | 12 => 0xBF7F069E#32
  | 13 => 0xBE47C5C2#32
  | 14 => 0x3F7426CB#32
  | 15 => 0x3ECE34D0#32
  | 16 => 0xBF5DB3D7#32
  | 17 => 0xBF176012#32
  | 18 => 0x3F3CBE35#32
  | 19 => 0x3F407893#32
  | 20 => 0xBF12D5E8#32
  | 21 => 0xBF60712A#32
  | 22 => 0x3EC3EF15#32
  | 23 => 0x3F75C5D4#32
  | 24 => 0xBE31D0D4#32
  | 25 => 0xBF7F73AF#32
  | 26 => 0xBD32AA3E#32
  | 27 => 0x3F7D0543#32
  | 28 => 0x3E8483EE#32
  | 29 => 0xBF6E9811#32
  | 30 => 0xBEEC6A50#32
  | 31 => 0x3F54DB31#32
  | 32 => 0x3F248DBB#32
  | 33 => 0xBF310700#32
  | 34 => 0xBF4B1934#32
  | 35 => 0x3F04CE53#32
  | 36 => 0x3F6803CA#32
  | 37 => 0xBEA493B7#32
  | 38 => 0xBF79EE89#32
  | 39 => 0x3DDEF599#32
  | 40 => 0x3F800000#32
  | 41 => 0x3DDEF599#32
  | 42 => 0xBF79EE89#32
  | 43 => 0xBEA493B7#32
  | 44 => 0x3F6803CA#32
  | 45 => 0x3F04CE53#32
  | 46 => 0xBF4B1934#32
  | 47 => 0xBF310700#32
  | 48 => 0x3F248DBB#32
  | 49 => 0x3F54DB31#32
  | 50 => 0xBEEC6A50#32
  | 51 => 0xBF6E9811#32
  | 52 => 0x3E8483EE#32
  | 53 => 0x3F7D0543#32
  | 54 => 0xBD32AA3E#32
  | 55 => 0xBF7F73AF#32
  | 56 => 0xBE31D0D4#32
  | 57 => 0x3F75C5D4#32
  | 58 => 0x3EC3EF15#32
  | 59 => 0xBF60712A#32
  | 60 => 0xBF12D5E8#32
  | 61 => 0x3F407893#32
  | 62 => 0x3F3CBE35#32
  | 63 => 0xBF176012#32
  | 64 => 0xBF5DB3D7#32
  | 65 => 0x3ECE34D0#32
  | 66 => 0x3F7426CB#32
  | 67 => 0xBE47C5C2#32
  | 68 => 0xBF7F069E#32
  | 69 => 0xBCB2B521#32
  | 70 => 0x3F7DCF55#32
  | 71 => 0x3E7363EE#32
  | 72 => 0xBF708FB2#32
  | 73 => 0xBEE273AA#32
  | 74 => 0x3F57E880#32
  | 75 => 0x3F203C85#32
  | 76 => 0xBF3504F3#32
  | 77 => 0xBF47A682#32
  | 78 => 0x3F098C78#32
  | 79 => 0x3F659974#32
  | 80 => 0xBEAF1D44#32
  | 81 => 0xBF78A9E0#32
  | 82 => 0x3E05A8A8#32
  | 83 => 0x3F7FF067#32
  | 84 => 0x3DB27EB6#32
  | 85 => 0xBF7B14BE#32
  | 86 => 0xBE99F61C#32
  | 87 => 0x3F6A51DA#32
  | 88 => 0x3F000000#32
  | 89 => 0xBF4E7327#32
  | 90 => 0xBF2CF37B#32
  | 91 => 0x3F28CAE3#32
  | 92 => 0x3F51B3F3#32
  | 93 => 0xBEF64429#32
  | 94 => 0xBF6C835E#32
  | 95 => 0x3E8F45C0#32
  | 96 => 0x3F7C1C5C#32
  | 97 => 0xBD85F213#32
  | 98 => 0xBF7FC1A0#32
  | 99 => 0xBE1BC63C#32
  | 100 => 0x3F7746EA#32
  | 101 => 0x3EB9917B#32
  | 102 => 0xBF631324#32
  | 103 => 0xBF0E39DA#32
  | 104 => 0x3F441B7D#32
  | 105 => 0x3F38ECD8#32
  | 106 => 0xBF1BD7CA#32
  | 107 => 0xBF5ADB81#32
  | 108 => 0x3ED8616C#32
  | 109 => 0x3F726A03#32
  | 110 => 0xBE5DA259#32
  | 111 => 0xBF7E7A7A#32
  | 112 => 0xA50D3132#32
  | 113 => 0x3F7E7A7A#32
  | 114 => 0x3E5DA259#32
  | 115 => 0xBF726A03#32
  | 116 => 0xBED8616C#32
  | 117 => 0x3F5ADB81#32
  | 118 => 0x3F1BD7CA#32
  | 119 => 0xBF38ECD8#32
  | 120 => 0xBF441B7D#32
  | 121 => 0x3F0E39DA#32
  | 122 => 0x3F631324#32
  | 123 => 0xBEB9917B#32
  | 124 => 0xBF7746EA#32
  | 125 => 0x3E1BC63C#32
  | 126 => 0x3F7FC1A0#32
  | 127 => 0x3D85F213#32
  | _ => 0#32

noncomputable abbrev lit1t0_152 (i : Nat) : BitVec 32 := match i % 128 with
  | 0 => 0xBF7C1C5C#32
  | 1 => 0xBE8F45C0#32
  | 2 => 0x3F6C835E#32
  | 3 => 0x3EF64429#32
  | 4 => 0xBF51B3F3#32
  | 5 => 0xBF28CAE3#32
  | 6 => 0x3F2CF37B#32
  | 7 => 0x3F4E7327#32
  | 8 => 0xBF000000#32
  | 9 => 0xBF6A51DA#32
  | 10 => 0x3E99F61C#32
  | 11 => 0x3F7B14BE#32
  | 12 => 0xBDB27EB6#32
  | 13 => 0xBF7FF067#32
  | 14 => 0xBE05A8A8#32
  | 15 => 0x3F78A9E0#32
  | 16 => 0x3EAF1D44#32
  | 17 => 0xBF659974#32
  | 18 => 0xBF098C78#32
  | 19 => 0x3F47A682#32
  | 20 => 0x3F3504F3#32
  | 21 => 0xBF203C85#32
  | 22 => 0xBF57E880#32
  | 23 => 0x3EE273AA#32
  | 24 => 0x3F708FB2#32
  | 25 => 0xBE7363EE#32
  | 26 => 0xBF7DCF55#32
  | 27 => 0x3CB2B521#32
  | 28 => 0x3F7F069E#32
  | 29 => 0x3E47C5C2#32
  | 30 => 0xBF7426CB#32
  | 31 => 0xBECE34D0#32
  | 32 => 0x3F5DB3D7#32
  | 33 => 0x3F176012#32
  | 34 => 0xBF3CBE35#32
  | 35 => 0xBF407893#32
  | 36 => 0x3F12D5E8#32
  | 37 => 0x3F60712A#32
  | 38 => 0xBEC3EF15#32
  | 39 => 0xBF75C5D4#32
  | 40 => 0x3E31D0D4#32
  | 41 => 0x3F7F73AF#32
  | 42 => 0x3D32AA3E#32
  | 43 => 0xBF7D0543#32
  | 44 => 0xBE8483EE#32
  | 45 => 0x3F6E9811#32
  | 46 => 0x3EEC6A50#32
  | 47 => 0xBF54DB31#32
  | 48 => 0xBF248DBB#32
  | 49 => 0x3F310700#32
  | 50 => 0x3F4B1934#32
  | 51 => 0xBF04CE53#32
  | 52 => 0xBF6803CA#32
  | 53 => 0x3EA493B7#32
  | 54 => 0x3F79EE89#32
  | 55 => 0xBDDEF599#32
  | 56 => 0xBF800000#32
  | 57 => 0xBDDEF599#32
  | 58 => 0x3F79EE89#32
  | 59 => 0x3EA493B7#32
  | 60 => 0xBF6803CA#32
  | 61 => 0xBF04CE53#32
  | 62 => 0x3F4B1934#32
  | 63 => 0x3F310700#32
  | 64 => 0xBF248DBB#32
  | 65 => 0xBF54DB31#32
  | 66 => 0x3EEC6A50#32
  | 67 => 0x3F6E9811#32
  | 68 => 0xBE8483EE#32
  | 69 => 0xBF7D0543#32
  | 70 => 0x3D32AA3E#32
  | 71 => 0x3F7F73AF#32
  | 72 => 0x3E31D0D4#32
  | 73 => 0xBF75C5D4#32
  | 74 => 0xBEC3EF15#32
  | 75 => 0x3F60712A#32
  | 76 => 0x3F12D5E8#32
  | 77 => 0xBF407893#32
  | 78 => 0xBF3CBE35#32
  | 79 => 0x3F176012#32
  | 80 => 0x3F5DB3D7#32
  | 81 => 0xBECE34D0#32
  | 82 => 0xBF7426CB#32
  | 83 => 0x3E47C5C2#32
  | 84 => 0x3F7F069E#32
  | 85 => 0x3CB2B521#32
  | 86 => 0xBF7DCF55#32
  | 87 => 0xBE7363EE#32
  | 88 => 0x3F708FB2#32
  | 89 => 0x3EE273AA#32
  | 90 => 0xBF57E880#32
  | 91 => 0xBF203C85#32
  | 92 => 0x3F3504F3#32
  | 93 => 0x3F47A682#32
  | 94 => 0xBF098C78#32
  | 95 => 0xBF659974#32
  | 96 => 0x3EAF1D44#32
  | 97 => 0x3F78A9E0#32
  | 98 => 0xBE05A8A8#32
  | 99 => 0xBF7FF067#32
  | 100 => 0xBDB27EB6#32
  | 101 => 0x3F7B14BE#32
  | 102 => 0x3E99F61C#32
  | 103 => 0xBF6A51DA#32
  | 104 => 0xBF000000#32
  | 105 => 0x3F4E7327#32
  | 106 => 0x3F2CF37B#32
  | 107 => 0xBF28CAE3#32
  | 108 => 0xBF51B3F3#32
  | 109 => 0x3EF64429#32
  | 110 => 0x3F6C835E#32
  | 111 => 0xBE8F45C0#32
  | 112 => 0xBF7C1C5C#32
  | 113 => 0x3D85F213#32
  | 114 => 0x3F7FC1A0#32
  | 115 => 0x3E1BC63C#32
  | 116 => 0xBF7746EA#32
  | 117 => 0xBEB9917B#32
  | 118 => 0x3F631324#32
  | 119 => 0x3F0E39DA#32
  | 120 => 0xBF441B7D#32
  | 121 => 0xBF38ECD8#32
  | 122 => 0x3F1BD7CA#32
  | 123 => 0x3F5ADB81#32
  | 124 => 0xBED8616C#32
  | 125 => 0xBF726A03#32
  | 126 => 0x3E5DA259#32
  | 127 => 0x3F7E7A7A#32
  | _ => 0#32

noncomputable abbrev lit1t0_153 (i : Nat) : BitVec 32 := match i % 128 with
  | 0 => 0x80000000#32
  | 1 => 0xBF7F069E#32
  | 2 => 0xBE31D0D4#32
  | 3 => 0x3F7746EA#32
  | 4 => 0x3EAF1D44#32
  | 5 => 0xBF6803CA#32
  | 6 => 0xBF000000#32
  | 7 => 0x3F51B3F3#32
  | 8 => 0x3F248DBB#32
  | 9 => 0xBF3504F3#32
  | 10 => 0xBF441B7D#32
  | 11 => 0x3F12D5E8#32
  | 12 => 0x3F5DB3D7#32
  | 13 => 0xBED8616C#32
  | 14 => 0xBF708FB2#32
  | 15 => 0x3E8483EE#32
  | 16 => 0x3F7C1C5C#32
  | 17 => 0xBDB27EB6#32
  | 18 => 0xBF800000#32
  | 19 => 0xBDB27EB6#32
  | 20 => 0x3F7C1C5C#32
  | 21 => 0x3E8483EE#32
  | 22 => 0xBF708FB2#32
  | 23 => 0xBED8616C#32
  | 24 => 0x3F5DB3D7#32
  | 25 => 0x3F12D5E8#32
  | 26 => 0xBF441B7D#32
  | 27 => 0xBF3504F3#32
  | 28 => 0x3F248DBB#32
  | 29 => 0x3F51B3F3#32
  | 30 => 0xBF000000#32
  | 31 => 0xBF6803CA#32
  | 32 => 0x3EAF1D44#32
  | 33 => 0x3F7746EA#32
  | 34 => 0xBE31D0D4#32
  | 35 => 0xBF7F069E#32
  | 36 => 0xA50D3132#32
  | 37 => 0x3F7F069E#32
  | 38 => 0x3E31D0D4#32
  | 39 => 0xBF7746EA#32
  | 40 => 0xBEAF1D44#32
  | 41 => 0x3F6803CA#32
  | 42 => 0x3F000000#32
  | 43 => 0xBF51B3F3#32
  | 44 => 0xBF248DBB#32
  | 45 => 0x3F3504F3#32
  | 46 => 0x3F441B7D#32
  | 47 => 0xBF12D5E8#32
  | 48 => 0xBF5DB3D7#32
  | 49 => 0x3ED8616C#32
  | 50 => 0x3F708FB2#32
  | 51 => 0xBE8483EE#32
  | 52 => 0xBF7C1C5C#32
  | 53 => 0x3DB27EB6#32
  | 54 => 0x3F800000#32
  | 55 => 0x3DB27EB6#32
  | 56 => 0xBF7C1C5C#32
  | 57 => 0xBE8483EE#32
  | 58 => 0x3F708FB2#32
  | 59 => 0x3ED8616C#32
  | 60 => 0xBF5DB3D7#32
  | 61 => 0xBF12D5E8#32
  | 62 => 0x3F441B7D#32
  | 63 => 0x3F3504F3#32
  | 64 => 0xBF248DBB#32
  | 65 => 0xBF51B3F3#32
  | 66 => 0x3F000000#32
  | 67 => 0x3F6803CA#32
  | 68 => 0xBEAF1D44#32
  | 69 => 0xBF7746EA#32
  | 70 => 0x3E31D0D4#32
  | 71 => 0x3F7F069E#32
  | 72 => 0x80000000#32
  | 73 => 0xBF7F069E#32
  | 74 => 0xBE31D0D4#32
  | 75 => 0x3F7746EA#32
  | 76 => 0x3EAF1D44#32
  | 77 => 0xBF6803CA#32
  | 78 => 0xBF000000#32
  | 79 => 0x3F51B3F3#32
  | 80 => 0x3F248DBB#32
  | 81 => 0xBF3504F3#32
  | 82 => 0xBF441B7D#32
  | 83 => 0x3F12D5E8#32
  | 84 => 0x3F5DB3D7#32
  | 85 => 0xBED8616C#32
  | 86 => 0xBF708FB2#32
  | 87 => 0x3E8483EE#32
  | 88 => 0x3F7C1C5C#32
  | 89 => 0xBDB27EB6#32
  | 90 => 0xBF800000#32
  | 91 => 0xBDB27EB6#32
  | 92 => 0x3F7C1C5C#32
  | 93 => 0x3E8483EE#32
  | 94 => 0xBF708FB2#32
  | 95 => 0xBED8616C#32
  | 96 => 0x3F5DB3D7#32
  | 97 => 0x3F12D5E8#32
  | 98 => 0xBF441B7D#32
  | 99 => 0xBF3504F3#32
  | 100 => 0x3F248DBB#32
  | 101 => 0x3F51B3F3#32
  | 102 => 0xBF000000#32
  | 103 => 0xBF6803CA#32
  | 104 => 0x3EAF1D44#32
  | 105 => 0x3F7746EA#32
  | 106 => 0xBE31D0D4#32
  | 107 => 0xBF7F069E#32
  | 108 => 0xA50D3132#32
  | 109 => 0x3F7F069E#32
  | 110 => 0x3E31D0D4#32
  | 111 => 0xBF7746EA#32
  | 112 => 0xBEAF1D44#32
  | 113 => 0x3F6803CA#32
  | 114 => 0x3F000000#32
  | 115 => 0xBF51B3F3#32
  | 116 => 0xBF248DBB#32
  | 117 => 0x3F3504F3#32
  | 118 => 0x3F441B7D#32
  | 119 => 0xBF12D5E8#32
  | 120 => 0xBF5DB3D7#32
  | 121 => 0x3ED8616C#32
  | 122 => 0x3F708FB2#32
  | 123 => 0xBE8483EE#32
  | 124 => 0xBF7C1C5C#32
  | 125 => 0x3DB27EB6#32
  | 126 => 0x3F800000#32
  | 127 => 0x3DB27EB6#32
  | _ => 0#32

noncomputable abbrev lit1t0_154 (i : Nat) : BitVec 32 := match i % 128 with
  | 0 => 0xBF7C1C5C#32
  | 1 => 0xBE8483EE#32
  | 2 => 0x3F708FB2#32
  | 3 => 0x3ED8616C#32
  | 4 => 0xBF5DB3D7#32
  | 5 => 0xBF12D5E8#32
  | 6 => 0x3F441B7D#32
  | 7 => 0x3F3504F3#32
  | 8 => 0xBF248DBB#32
  | 9 => 0xBF51B3F3#32
  | 10 => 0x3F000000#32
  | 11 => 0x3F6803CA#32
  | 12 => 0xBEAF1D44#32
  | 13 => 0xBF7746EA#32
  | 14 => 0x3E31D0D4#32
  | 15 => 0x3F7F069E#32
  | 16 => 0x80000000#32
  | 17 => 0xBF7F069E#32
  | 18 => 0xBE31D0D4#32
  | 19 => 0x3F7746EA#32
  | 20 => 0x3EAF1D44#32
  | 21 => 0xBF6803CA#32
  | 22 => 0xBF000000#32
  | 23 => 0x3F51B3F3#32
  | 24 => 0x3F248DBB#32
  | 25 => 0xBF3504F3#32
  | 26 => 0xBF441B7D#32
  | 27 => 0x3F12D5E8#32
  | 28 => 0x3F5DB3D7#32
  | 29 => 0xBED8616C#32
  | 30 => 0xBF708FB2#32
  | 31 => 0x3E8483EE#32
  | 32 => 0x3F7C1C5C#32
  | 33 => 0xBDB27EB6#32
  | 34 => 0xBF800000#32
  | 35 => 0xBDB27EB6#32
  | 36 => 0x3F7C1C5C#32
  | 37 => 0x3E8483EE#32
  | 38 => 0xBF708FB2#32
  | 39 => 0xBED8616C#32
  | 40 => 0x3F5DB3D7#32
  | 41 => 0x3F12D5E8#32
  | 42 => 0xBF441B7D#32
  | 43 => 0xBF3504F3#32
  | 44 => 0x3F248DBB#32
  | 45 => 0x3F51B3F3#32
  | 46 => 0xBF000000#32
  | 47 => 0xBF6803CA#32
  | 48 => 0x3EAF1D44#32
  | 49 => 0x3F7746EA#32
  | 50 => 0xBE31D0D4#32
  | 51 => 0xBF7F069E#32
  | 52 => 0xA50D3132#32
  | 53 => 0x3F7F069E#32
  | 54 => 0x3E31D0D4#32
  | 55 => 0xBF7746EA#32
  | 56 => 0xBEAF1D44#32
  | 57 => 0x3F6803CA#32
  | 58 => 0x3F000000#32
  | 59 => 0xBF51B3F3#32
  | 60 => 0xBF248DBB#32
  | 61 => 0x3F3504F3#32
  | 62 => 0x3F441B7D#32
  | 63 => 0xBF12D5E8#32
  | 64 => 0xBF5DB3D7#32
  | 65 => 0x3ED8616C#32
  | 66 => 0x3F708FB2#32
  | 67 => 0xBE8483EE#32
  | 68 => 0xBF7C1C5C#32
  | 69 => 0x3DB27EB6#32
  | 70 => 0x3F800000#32
  | 71 => 0x3DB27EB6#32
  | 72 => 0xBF7C1C5C#32
  | 73 => 0xBE8483EE#32
  | 74 => 0x3F708FB2#32
  | 75 => 0x3ED8616C#32
  | 76 => 0xBF5DB3D7#32
  | 77 => 0xBF12D5E8#32
  | 78 => 0x3F441B7D#32
  | 79 => 0x3F3504F3#32
  | 80 => 0xBF248DBB#32
  | 81 => 0xBF51B3F3#32
  | 82 => 0x3F000000#32
  | 83 => 0x3F6803CA#32
  | 84 => 0xBEAF1D44#32
  | 85 => 0xBF7746EA#32
  | 86 => 0x3E31D0D4#32
  | 87 => 0x3F7F069E#32
  | 88 => 0x80000000#32
  | 89 => 0xBF7F069E#32
  | 90 => 0xBE31D0D4#32
  | 91 => 0x3F7746EA#32
  | 92 => 0x3EAF1D44#32
  | 93 => 0xBF6803CA#32
  | 94 => 0xBF000000#32
  | 95 => 0x3F51B3F3#32
  | 96 => 0x3F248DBB#32
  | 97 => 0xBF3504F3#32
  | 98 => 0xBF441B7D#32
  | 99 => 0x3F12D5E8#32
  | 100 => 0x3F5DB3D7#32
  | 101 => 0xBED8616C#32
  | 102 => 0xBF708FB2#32
  | 103 => 0x3E8483EE#32
  | 104 => 0x3F7C1C5C#32
  | 105 => 0xBDB27EB6#32
  | 106 => 0xBF800000#32
  | 107 => 0xBDB27EB6#32
  | 108 => 0x3F7C1C5C#32
  | 109 => 0x3E8483EE#32
  | 110 => 0xBF708FB2#32
  | 111 => 0xBED8616C#32
  | 112 => 0x3F5DB3D7#32
  | 113 => 0x3F12D5E8#32
  | 114 => 0xBF441B7D#32
  | 115 => 0xBF3504F3#32
  | 116 => 0x3F248DBB#32
  | 117 => 0x3F51B3F3#32
  | 118 => 0xBF000000#32
  | 119 => 0xBF6803CA#32
  | 120 => 0x3EAF1D44#32
  | 121 => 0x3F7746EA#32
  | 122 => 0xBE31D0D4#32
  | 123 => 0xBF7F069E#32
  | 124 => 0xA50D3132#32
  | 125 => 0x3F7F069E#32
  | 126 => 0x3E31D0D4#32
  | 127 => 0xBF7746EA#32
  | _ => 0#32

noncomputable abbrev lit1t0_155 (i : Nat) : BitVec 32 := match i % 128 with
  | 0 => 0xBEAF1D44#32
  | 1 => 0x3F6803CA#32
  | 2 => 0x3F000000#32
  | 3 => 0xBF51B3F3#32
  | 4 => 0xBF248DBB#32
  | 5 => 0x3F3504F3#32
  | 6 => 0x3F441B7D#32
  | 7 => 0xBF12D5E8#32
  | 8 => 0xBF5DB3D7#32
  | 9 => 0x3ED8616C#32
  | 10 => 0x3F708FB2#32
  | 11 => 0xBE8483EE#32
  | 12 => 0xBF7C1C5C#32
  | 13 => 0x3DB27EB6#32
  | 14 => 0x3F800000#32
  | 15 => 0x3DB27EB6#32
  | 16 => 0xBF7C1C5C#32
  | 17 => 0xBE8483EE#32
  | 18 => 0x3F708FB2#32
  | 19 => 0x3ED8616C#32
  | 20 => 0xBF5DB3D7#32
  | 21 => 0xBF12D5E8#32
  | 22 => 0x3F441B7D#32
  | 23 => 0x3F3504F3#32
  | 24 => 0xBF248DBB#32
  | 25 => 0xBF51B3F3#32
  | 26 => 0x3F000000#32
  | 27 => 0x3F6803CA#32
  | 28 => 0xBEAF1D44#32
  | 29 => 0xBF7746EA#32
  | 30 => 0x3E31D0D4#32
  | 31 => 0x3F7F069E#32
  | 32 => 0x80000000#32
  | 33 => 0xBF7F73AF#32
  | 34 => 0xBE05A8A8#32
  | 35 => 0x3F7B14BE#32
  | 36 => 0x3E8483EE#32
  | 37 => 0xBF726A03#32
  | 38 => 0xBEC3EF15#32
  | 39 => 0x3F659974#32
  | 40 => 0x3F000000#32
  | 41 => 0xBF54DB31#32
  | 42 => 0xBF1BD7CA#32
  | 43 => 0x3F407893#32
  | 44 => 0x3F3504F3#32
  | 45 => 0xBF28CAE3#32
  | 46 => 0xBF4B1934#32
  | 47 => 0x3F0E39DA#32
  | 48 => 0x3F5DB3D7#32
  | 49 => 0xBEE273AA#32
  | 50 => 0xBF6C835E#32
  | 51 => 0x3EA493B7#32
  | 52 => 0x3F7746EA#32
  | 53 => 0xBE47C5C2#32
  | 54 => 0xBF7DCF55#32
  | 55 => 0x3D85F213#32
  | 56 => 0x3F800000#32
  | 57 => 0x3D85F213#32
  | 58 => 0xBF7DCF55#32
  | 59 => 0xBE47C5C2#32
  | 60 => 0x3F7746EA#32
  | 61 => 0x3EA493B7#32
  | 62 => 0xBF6C835E#32
  | 63 => 0xBEE273AA#32
  | 64 => 0x3F5DB3D7#32
  | 65 => 0x3F0E39DA#32
  | 66 => 0xBF4B1934#32
  | 67 => 0xBF28CAE3#32
  | 68 => 0x3F3504F3#32
  | 69 => 0x3F407893#32
  | 70 => 0xBF1BD7CA#32
  | 71 => 0xBF54DB31#32
  | 72 => 0x3F000000#32
  | 73 => 0x3F659974#32
  | 74 => 0xBEC3EF15#32
  | 75 => 0xBF726A03#32
  | 76 => 0x3E8483EE#32
  | 77 => 0x3F7B14BE#32
  | 78 => 0xBE05A8A8#32
  | 79 => 0xBF7F73AF#32
  | 80 => 0xA50D3132#32
  | 81 => 0x3F7F73AF#32
  | 82 => 0x3E05A8A8#32
  | 83 => 0xBF7B14BE#32
  | 84 => 0xBE8483EE#32
  | 85 => 0x3F726A03#32
  | 86 => 0x3EC3EF15#32
  | 87 => 0xBF659974#32
  | 88 => 0xBF000000#32
  | 89 => 0x3F54DB31#32
  | 90 => 0x3F1BD7CA#32
  | 91 => 0xBF407893#32
  | 92 => 0xBF3504F3#32
  | 93 => 0x3F28CAE3#32
  | 94 => 0x3F4B1934#32
  | 95 => 0xBF0E39DA#32
  | 96 => 0xBF5DB3D7#32
  | 97 => 0x3EE273AA#32
  | 98 => 0x3F6C835E#32
  | 99 => 0xBEA493B7#32
  | 100 => 0xBF7746EA#32
  | 101 => 0x3E47C5C2#32
  | 102 => 0x3F7DCF55#32
  | 103 => 0xBD85F213#32
  | 104 => 0xBF800000#32
  | 105 => 0xBD85F213#32
  | 106 => 0x3F7DCF55#32
  | 107 => 0x3E47C5C2#32
  | 108 => 0xBF7746EA#32
  | 109 => 0xBEA493B7#32
  | 110 => 0x3F6C835E#32
  | 111 => 0x3EE273AA#32
  | 112 => 0xBF5DB3D7#32
  | 113 => 0xBF0E39DA#32
  | 114 => 0x3F4B1934#32
  | 115 => 0x3F28CAE3#32
  | 116 => 0xBF3504F3#32
  | 117 => 0xBF407893#32
  | 118 => 0x3F1BD7CA#32
  | 119 => 0x3F54DB31#32
  | 120 => 0xBF000000#32
  | 121 => 0xBF659974#32
  | 122 => 0x3EC3EF15#32
  | 123 => 0x3F726A03#32
  | 124 => 0xBE8483EE#32
  | 125 => 0xBF7B14BE#32
  | 126 => 0x3E05A8A8#32
  | 127 => 0x3F7F73AF#32
  | _ => 0#32

noncomputable abbrev lit1t0_156 (i : Nat) : BitVec 32 := match i % 128 with
  | 0 => 0x80000000#32
  | 1 => 0xBF7F73AF#32
  | 2 => 0xBE05A8A8#32
  | 3 => 0x3F7B14BE#32
  | 4 => 0x3E8483EE#32
  | 5 => 0xBF726A03#32
  | 6 => 0xBEC3EF15#32
  | 7 => 0x3F659974#32
  | 8 => 0x3F000000#32
  | 9 => 0xBF54DB31#32
  | 10 => 0xBF1BD7CA#32
  | 11 => 0x3F407893#32
  | 12 => 0x3F3504F3#32
  | 13 => 0xBF28CAE3#32
  | 14 => 0xBF4B1934#32
  | 15 => 0x3F0E39DA#32
  | 16 => 0x3F5DB3D7#32
  | 17 => 0xBEE273AA#32
  | 18 => 0xBF6C835E#32
  | 19 => 0x3EA493B7#32
  | 20 => 0x3F7746EA#32
  | 21 => 0xBE47C5C2#32
  | 22 => 0xBF7DCF55#32
  | 23 => 0x3D85F213#32
  | 24 => 0x3F800000#32
  | 25 => 0x3D85F213#32
  | 26 => 0xBF7DCF55#32
  | 27 => 0xBE47C5C2#32
  | 28 => 0x3F7746EA#32
  | 29 => 0x3EA493B7#32
  | 30 => 0xBF6C835E#32
  | 31 => 0xBEE273AA#32
  | 32 => 0x3F5DB3D7#32
  | 33 => 0x3F0E39DA#32
  | 34 => 0xBF4B1934#32
  | 35 => 0xBF28CAE3#32
  | 36 => 0x3F3504F3#32
  | 37 => 0x3F407893#32
  | 38 => 0xBF1BD7CA#32
  | 39 => 0xBF54DB31#32
  | 40 => 0x3F000000#32
  | 41 => 0x3F659974#32
  | 42 => 0xBEC3EF15#32
  | 43 => 0xBF726A03#32
  | 44 => 0x3E8483EE#32
  | 45 => 0x3F7B14BE#32
  | 46 => 0xBE05A8A8#32
  | 47 => 0xBF7F73AF#32
  | 48 => 0xA50D3132#32
  | 49 => 0x3F7F73AF#32
  | 50 => 0x3E05A8A8#32
  | 51 => 0xBF7B14BE#32
  | 52 => 0xBE8483EE#32
  | 53 => 0x3F726A03#32
  | 54 => 0x3EC3EF15#32
  | 55 => 0xBF659974#32
  | 56 => 0xBF000000#32
  | 57 => 0x3F54DB31#32
  | 58 => 0x3F1BD7CA#32
  | 59 => 0xBF407893#32
  | 60 => 0xBF3504F3#32
  | 61 => 0x3F28CAE3#32
  | 62 => 0x3F4B1934#32
  | 63 => 0xBF0E39DA#32
  | 64 => 0xBF5DB3D7#32
  | 65 => 0x3EE273AA#32
  | 66 => 0x3F6C835E#32
  | 67 => 0xBEA493B7#32
  | 68 => 0xBF7746EA#32
  | 69 => 0x3E47C5C2#32
  | 70 => 0x3F7DCF55#32
  | 71 => 0xBD85F213#32
  | 72 => 0xBF800000#32
  | 73 => 0xBD85F213#32
  | 74 => 0x3F7DCF55#32
  | 75 => 0x3E47C5C2#32
  | 76 => 0xBF7746EA#32
  | 77 => 0xBEA493B7#32
  | 78 => 0x3F6C835E#32
  | 79 => 0x3EE273AA#32
  | 80 => 0xBF5DB3D7#32
  | 81 => 0xBF0E39DA#32
  | 82 => 0x3F4B1934#32
  | 83 => 0x3F28CAE3#32
  | 84 => 0xBF3504F3#32
  | 85 => 0xBF407893#32
  | 86 => 0x3F1BD7CA#32
  | 87 => 0x3F54DB31#32
  | 88 => 0xBF000000#32
  | 89 => 0xBF659974#32
  | 90 => 0x3EC3EF15#32
  | 91 => 0x3F726A03#32
  | 92 => 0xBE8483EE#32
  | 93 => 0xBF7B14BE#32
  | 94 => 0x3E05A8A8#32
  | 95 => 0x3F7F73AF#32
  | 96 => 0x80000000#32
  | 97 => 0xBF7F73AF#32
  | 98 => 0xBE05A8A8#32
  | 99 => 0x3F7B14BE#32
  | 100 => 0x3E8483EE#32
  | 101 => 0xBF726A03#32
  | 102 => 0xBEC3EF15#32
  | 103 => 0x3F659974#32
  | 104 => 0x3F000000#32
  | 105 => 0xBF54DB31#32
  | 106 => 0xBF1BD7CA#32
  | 107 => 0x3F407893#32
  | 108 => 0x3F3504F3#32
  | 109 => 0xBF28CAE3#32
  | 110 => 0xBF4B1934#32
  | 111 => 0x3F0E39DA#32
  | 112 => 0x3F5DB3D7#32
  | 113 => 0xBEE273AA#32
  | 114 => 0xBF6C835E#32
  | 115 => 0x3EA493B7#32
  | 116 => 0x3F7746EA#32
  | 117 => 0xBE47C5C2#32
  | 118 => 0xBF7DCF55#32
  | 119 => 0x3D85F213#32
  | 120 => 0x3F800000#32
  | 121 => 0x3D85F213#32
  | 122 => 0xBF7DCF55#32
  | 123 => 0xBE47C5C2#32
  | 124 => 0x3F7746EA#32
  | 125 => 0x3EA493B7#32
  | 126 => 0xBF6C835E#32
  | 127 => 0xBEE273AA#32
  | _ => 0#32

noncomputable abbrev lit1t0_157 (i : Nat) : BitVec 32 := match i % 128 with
  | 0 => 0x3F5DB3D7#32
  | 1 => 0x3F0E39DA#32
  | 2 => 0xBF4B1934#32
  | 3 => 0xBF28CAE3#32
  | 4 => 0x3F3504F3#32
  | 5 => 0x3F407893#32
  | 6 => 0xBF1BD7CA#32
  | 7 => 0xBF54DB31#32
  | 8 => 0x3F000000#32
  | 9 => 0x3F659974#32
  | 10 => 0xBEC3EF15#32
  | 11 => 0xBF726A03#32
  | 12 => 0x3E8483EE#32
  | 13 => 0x3F7B14BE#32
  | 14 => 0xBE05A8A8#32
  | 15 => 0xBF7F73AF#32
  | 16 => 0xA50D3132#32
  | 17 => 0x3F7F73AF#32
  | 18 => 0x3E05A8A8#32
  | 19 => 0xBF7B14BE#32
  | 20 => 0xBE8483EE#32
  | 21 => 0x3F726A03#32
  | 22 => 0x3EC3EF15#32
  | 23 => 0xBF659974#32
  | 24 => 0xBF000000#32
  | 25 => 0x3F54DB31#32
  | 26 => 0x3F1BD7CA#32
  | 27 => 0xBF407893#32
  | 28 => 0xBF3504F3#32
  | 29 => 0x3F28CAE3#32
  | 30 => 0x3F4B1934#32
  | 31 => 0xBF0E39DA#32
  | 32 => 0xBF5DB3D7#32
  | 33 => 0x3EE273AA#32
  | 34 => 0x3F6C835E#32
  | 35 => 0xBEA493B7#32
  | 36 => 0xBF7746EA#32
  | 37 => 0x3E47C5C2#32
  | 38 => 0x3F7DCF55#32
  | 39 => 0xBD85F213#32
  | 40 => 0xBF800000#32
  | 41 => 0xBD85F213#32
  | 42 => 0x3F7DCF55#32
  | 43 => 0x3E47C5C2#32
  | 44 => 0xBF7746EA#32
  | 45 => 0xBEA493B7#32
  | 46 => 0x3F6C835E#32
  | 47 => 0x3EE273AA#32
  | 48 => 0xBF5DB3D7#32
  | 49 => 0xBF0E39DA#32
  | 50 => 0x3F4B1934#32
  | 51 => 0x3F28CAE3#32
  | 52 => 0xBF3504F3#32
  | 53 => 0xBF407893#32
  | 54 => 0x3F1BD7CA#32
  | 55 => 0x3F54DB31#32
  | 56 => 0xBF000000#32
  | 57 => 0xBF659974#32
  | 58 => 0x3EC3EF15#32
  | 59 => 0x3F726A03#32
  | 60 => 0xBE8483EE#32
  | 61 => 0xBF7B14BE#32
  | 62 => 0x3E05A8A8#32
  | 63 => 0x3F7F73AF#32
  | 64 => 0x80000000#32
  | 65 => 0xBF7FC1A0#32
  | 66 => 0xBDB27EB6#32
  | 67 => 0x3F7DCF55#32
  | 68 => 0x3E31D0D4#32
  | 69 => 0xBF79EE89#32
  | 70 => 0xBE8483EE#32
  | 71 => 0x3F7426CB#32
  | 72 => 0x3EAF1D44#32
  | 73 => 0xBF6C835E#32
  | 74 => 0xBED8616C#32
  | 75 => 0x3F631324#32
  | 76 => 0x3F000000#32
  | 77 => 0xBF57E880#32
  | 78 => 0xBF12D5E8#32
  | 79 => 0x3F4B1934#32
  | 80 => 0x3F248DBB#32
  | 81 => 0xBF3CBE35#32
  | 82 => 0xBF3504F3#32
  | 83 => 0x3F2CF37B#32
  | 84 => 0x3F441B7D#32
  | 85 => 0xBF1BD7CA#32
  | 86 => 0xBF51B3F3#32
  | 87 => 0x3F098C78#32
  | 88 => 0x3F5DB3D7#32
  | 89 => 0xBEEC6A50#32
  | 90 => 0xBF6803CA#32
  | 91 => 0x3EC3EF15#32
  | 92 => 0x3F708FB2#32
  | 93 => 0xBE99F61C#32
  | 94 => 0xBF7746EA#32
  | 95 => 0x3E5DA259#32
  | 96 => 0x3F7C1C5C#32
  | 97 => 0xBE05A8A8#32
  | 98 => 0xBF7F069E#32
  | 99 => 0x3D32AA3E#32
  | 100 => 0x3F800000#32
  | 101 => 0x3D32AA3E#32
  | 102 => 0xBF7F069E#32
  | 103 => 0xBE05A8A8#32
  | 104 => 0x3F7C1C5C#32
  | 105 => 0x3E5DA259#32
  | 106 => 0xBF7746EA#32
  | 107 => 0xBE99F61C#32
  | 108 => 0x3F708FB2#32
  | 109 => 0x3EC3EF15#32
  | 110 => 0xBF6803CA#32
  | 111 => 0xBEEC6A50#32
  | 112 => 0x3F5DB3D7#32
  | 113 => 0x3F098C78#32
  | 114 => 0xBF51B3F3#32
  | 115 => 0xBF1BD7CA#32
  | 116 => 0x3F441B7D#32
  | 117 => 0x3F2CF37B#32
  | 118 => 0xBF3504F3#32
  | 119 => 0xBF3CBE35#32
  | 120 => 0x3F248DBB#32
  | 121 => 0x3F4B1934#32
  | 122 => 0xBF12D5E8#32
  | 123 => 0xBF57E880#32
  | 124 => 0x3F000000#32
  | 125 => 0x3F631324#32
  | 126 => 0xBED8616C#32
  | 127 => 0xBF6C835E#32
  | _ => 0#32

noncomputable abbrev lit1t0_158 (i : Nat) : BitVec 32 := match i % 128 with
  | 0 => 0x3EAF1D44#32
  | 1 => 0x3F7426CB#32
  | 2 => 0xBE8483EE#32
  | 3 => 0xBF79EE89#32
  | 4 => 0x3E31D0D4#32
  | 5 => 0x3F7DCF55#32
  | 6 => 0xBDB27EB6#32
  | 7 => 0xBF7FC1A0#32
  | 8 => 0xA50D3132#32
  | 9 => 0x3F7FC1A0#32
  | 10 => 0x3DB27EB6#32
  | 11 => 0xBF7DCF55#32
  | 12 => 0xBE31D0D4#32
  | 13 => 0x3F79EE89#32
  | 14 => 0x3E8483EE#32
  | 15 => 0xBF7426CB#32
  | 16 => 0xBEAF1D44#32
  | 17 => 0x3F6C835E#32
  | 18 => 0x3ED8616C#32
  | 19 => 0xBF631324#32
  | 20 => 0xBF000000#32
  | 21 => 0x3F57E880#32
  | 22 => 0x3F12D5E8#32
  | 23 => 0xBF4B1934#32
  | 24 => 0xBF248DBB#32
  | 25 => 0x3F3CBE35#32
  | 26 => 0x3F3504F3#32
  | 27 => 0xBF2CF37B#32
  | 28 => 0xBF441B7D#32
  | 29 => 0x3F1BD7CA#32
  | 30 => 0x3F51B3F3#32
  | 31 => 0xBF098C78#32
  | 32 => 0xBF5DB3D7#32
  | 33 => 0x3EEC6A50#32
  | 34 => 0x3F6803CA#32
  | 35 => 0xBEC3EF15#32
  | 36 => 0xBF708FB2#32
  | 37 => 0x3E99F61C#32
  | 38 => 0x3F7746EA#32
  | 39 => 0xBE5DA259#32
  | 40 => 0xBF7C1C5C#32
  | 41 => 0x3E05A8A8#32
  | 42 => 0x3F7F069E#32
  | 43 => 0xBD32AA3E#32
  | 44 => 0xBF800000#32
  | 45 => 0xBD32AA3E#32
  | 46 => 0x3F7F069E#32
  | 47 => 0x3E05A8A8#32
  | 48 => 0xBF7C1C5C#32
  | 49 => 0xBE5DA259#32
  | 50 => 0x3F7746EA#32
  | 51 => 0x3E99F61C#32
  | 52 => 0xBF708FB2#32
  | 53 => 0xBEC3EF15#32
  | 54 => 0x3F6803CA#32
  | 55 => 0x3EEC6A50#32
  | 56 => 0xBF5DB3D7#32
  | 57 => 0xBF098C78#32
  | 58 => 0x3F51B3F3#32
  | 59 => 0x3F1BD7CA#32
  | 60 => 0xBF441B7D#32
  | 61 => 0xBF2CF37B#32
  | 62 => 0x3F3504F3#32
  | 63 => 0x3F3CBE35#32
  | 64 => 0xBF248DBB#32
  | 65 => 0xBF4B1934#32
  | 66 => 0x3F12D5E8#32
  | 67 => 0x3F57E880#32
  | 68 => 0xBF000000#32
  | 69 => 0xBF631324#32
  | 70 => 0x3ED8616C#32
  | 71 => 0x3F6C835E#32
  | 72 => 0xBEAF1D44#32
  | 73 => 0xBF7426CB#32
  | 74 => 0x3E8483EE#32
  | 75 => 0x3F79EE89#32
  | 76 => 0xBE31D0D4#32
  | 77 => 0xBF7DCF55#32
  | 78 => 0x3DB27EB6#32
  | 79 => 0x3F7FC1A0#32
  | 80 => 0x80000000#32
  | 81 => 0xBF7FC1A0#32
  | 82 => 0xBDB27EB6#32
  | 83 => 0x3F7DCF55#32
  | 84 => 0x3E31D0D4#32
  | 85 => 0xBF79EE89#32
  | 86 => 0xBE8483EE#32
  | 87 => 0x3F7426CB#32
  | 88 => 0x3EAF1D44#32
  | 89 => 0xBF6C835E#32
  | 90 => 0xBED8616C#32
  | 91 => 0x3F631324#32
  | 92 => 0x3F000000#32
  | 93 => 0xBF57E880#32
  | 94 => 0xBF12D5E8#32
  | 95 => 0x3F4B1934#32
  | 96 => 0x3F248DBB#32
  | 97 => 0xBF3CBE35#32
  | 98 => 0xBF3504F3#32
  | 99 => 0x3F2CF37B#32
  | 100 => 0x3F441B7D#32
  | 101 => 0xBF1BD7CA#32
  | 102 => 0xBF51B3F3#32
  | 103 => 0x3F098C78#32
  | 104 => 0x3F5DB3D7#32
  | 105 => 0xBEEC6A50#32
  | 106 => 0xBF6803CA#32
  | 107 => 0x3EC3EF15#32
  | 108 => 0x3F708FB2#32
  | 109 => 0xBE99F61C#32
  | 110 => 0xBF7746EA#32
  | 111 => 0x3E5DA259#32
  | 112 => 0x3F7C1C5C#32
  | 113 => 0xBE05A8A8#32
  | 114 => 0xBF7F069E#32
  | 115 => 0x3D32AA3E#32
  | 116 => 0x3F800000#32
  | 117 => 0x3D32AA3E#32
  | 118 => 0xBF7F069E#32
  | 119 => 0xBE05A8A8#32
  | 120 => 0x3F7C1C5C#32
  | 121 => 0x3E5DA259#32
  | 122 => 0xBF7746EA#32
  | 123 => 0xBE99F61C#32
  | 124 => 0x3F708FB2#32
  | 125 => 0x3EC3EF15#32
  | 126 => 0xBF6803CA#32
  | 127 => 0xBEEC6A50#32
  | _ => 0#32

noncomputable abbrev lit1t0_159 (i : Nat) : BitVec 32 := match i % 128 with
  | 0 => 0x3F5DB3D7#32
  | 1 => 0x3F098C78#32
  | 2 => 0xBF51B3F3#32
  | 3 => 0xBF1BD7CA#32
  | 4 => 0x3F441B7D#32
  | 5 => 0x3F2CF37B#32
  | 6 => 0xBF3504F3#32
  | 7 => 0xBF3CBE35#32
  | 8 => 0x3F248DBB#32
  | 9 => 0x3F4B1934#32
  | 10 => 0xBF12D5E8#32
  | 11 => 0xBF57E880#32
  | 12 => 0x3F000000#32
  | 13 => 0x3F631324#32
  | 14 => 0xBED8616C#32
  | 15 => 0xBF6C835E#32
  | 16 => 0x3EAF1D44#32
  | 17 => 0x3F7426CB#32
  | 18 => 0xBE8483EE#32
  | 19 => 0xBF79EE89#32
  | 20 => 0x3E31D0D4#32
  | 21 => 0x3F7DCF55#32
  | 22 => 0xBDB27EB6#32
  | 23 => 0xBF7FC1A0#32
  | 24 => 0xA50D3132#32
  | 25 => 0x3F7FC1A0#32
  | 26 => 0x3DB27EB6#32
  | 27 => 0xBF7DCF55#32
  | 28 => 0xBE31D0D4#32
  | 29 => 0x3F79EE89#32
  | 30 => 0x3E8483EE#32
  | 31 => 0xBF7426CB#32
  | 32 => 0xBEAF1D44#32
  | 33 => 0x3F6C835E#32
  | 34 => 0x3ED8616C#32
  | 35 => 0xBF631324#32
  | 36 => 0xBF000000#32
  | 37 => 0x3F57E880#32
  | 38 => 0x3F12D5E8#32
  | 39 => 0xBF4B1934#32
  | 40 => 0xBF248DBB#32
  | 41 => 0x3F3CBE35#32
  | 42 => 0x3F3504F3#32
  | 43 => 0xBF2CF37B#32
  | 44 => 0xBF441B7D#32
  | 45 => 0x3F1BD7CA#32
  | 46 => 0x3F51B3F3#32
  | 47 => 0xBF098C78#32
  | 48 => 0xBF5DB3D7#32
  | 49 => 0x3EEC6A50#32
  | 50 => 0x3F6803CA#32
  | 51 => 0xBEC3EF15#32
  | 52 => 0xBF708FB2#32
  | 53 => 0x3E99F61C#32
  | 54 => 0x3F7746EA#32
  | 55 => 0xBE5DA259#32
  | 56 => 0xBF7C1C5C#32
  | 57 => 0x3E05A8A8#32
  | 58 => 0x3F7F069E#32
  | 59 => 0xBD32AA3E#32
  | 60 => 0xBF800000#32
  | 61 => 0xBD32AA3E#32
  | 62 => 0x3F7F069E#32
  | 63 => 0x3E05A8A8#32
  | 64 => 0xBF7C1C5C#32
  | 65 => 0xBE5DA259#32
  | 66 => 0x3F7746EA#32
  | 67 => 0x3E99F61C#32
  | 68 => 0xBF708FB2#32
  | 69 => 0xBEC3EF15#32
  | 70 => 0x3F6803CA#32
  | 71 => 0x3EEC6A50#32
  | 72 => 0xBF5DB3D7#32
  | 73 => 0xBF098C78#32
  | 74 => 0x3F51B3F3#32
  | 75 => 0x3F1BD7CA#32
  | 76 => 0xBF441B7D#32
  | 77 => 0xBF2CF37B#32
  | 78 => 0x3F3504F3#32
  | 79 => 0x3F3CBE35#32
  | 80 => 0xBF248DBB#32
  | 81 => 0xBF4B1934#32
  | 82 => 0x3F12D5E8#32
  | 83 => 0x3F57E880#32
  | 84 => 0xBF000000#32
  | 85 => 0xBF631324#32
  | 86 => 0x3ED8616C#32
  | 87 => 0x3F6C835E#32
  | 88 => 0xBEAF1D44#32
  | 89 => 0xBF7426CB#32
  | 90 => 0x3E8483EE#32
  | 91 => 0x3F79EE89#32
  | 92 => 0xBE31D0D4#32
  | 93 => 0xBF7DCF55#32
  | 94 => 0x3DB27EB6#32
  | 95 => 0x3F7FC1A0#32
  | 96 => 0x80000000#32
  | 97 => 0xBF7FF067#32
  | 98 => 0xBD32AA3E#32
  | 99 => 0x3F7F73AF#32
  | 100 => 0x3DB27EB6#32
  | 101 => 0xBF7E7A7A#32
  | 102 => 0xBE05A8A8#32
  | 103 => 0x3F7D0543#32
  | 104 => 0x3E31D0D4#32
  | 105 => 0xBF7B14BE#32
  | 106 => 0xBE5DA259#32
  | 107 => 0x3F78A9E0#32
  | 108 => 0x3E8483EE#32
  | 109 => 0xBF75C5D4#32
  | 110 => 0xBE99F61C#32
  | 111 => 0x3F726A03#32
  | 112 => 0x3EAF1D44#32
  | 113 => 0xBF6E9811#32
  | 114 => 0xBEC3EF15#32
  | 115 => 0x3F6A51DA#32
  | 116 => 0x3ED8616C#32
  | 117 => 0xBF659974#32
  | 118 => 0xBEEC6A50#32
  | 119 => 0x3F60712A#32
  | 120 => 0x3F000000#32
  | 121 => 0xBF5ADB81#32
  | 122 => 0xBF098C78#32
  | 123 => 0x3F54DB31#32
  | 124 => 0x3F12D5E8#32
  | 125 => 0xBF4E7327#32
  | 126 => 0xBF1BD7CA#32
  | 127 => 0x3F47A682#32
  | _ => 0#32

noncomputable abbrev lit1t0_160 (i : Nat) : BitVec 32 := match i % 128 with
  | 0 => 0x3F248DBB#32
  | 1 => 0xBF407893#32
  | 2 => 0xBF2CF37B#32
  | 3 => 0x3F38ECD8#32
  | 4 => 0x3F3504F3#32
  | 5 => 0xBF310700#32
  | 6 => 0xBF3CBE35#32
  | 7 => 0x3F28CAE3#32
  | 8 => 0x3F441B7D#32
  | 9 => 0xBF203C85#32
  | 10 => 0xBF4B1934#32
  | 11 => 0x3F176012#32
  | 12 => 0x3F51B3F3#32
  | 13 => 0xBF0E39DA#32
  | 14 => 0xBF57E880#32
  | 15 => 0x3F04CE53#32
  | 16 => 0x3F5DB3D7#32
  | 17 => 0xBEF64429#32
  | 18 => 0xBF631324#32
  | 19 => 0x3EE273AA#32
  | 20 => 0x3F6803CA#32
  | 21 => 0xBECE34D0#32
  | 22 => 0xBF6C835E#32
  | 23 => 0x3EB9917B#32
  | 24 => 0x3F708FB2#32
  | 25 => 0xBEA493B7#32
  | 26 => 0xBF7426CB#32
  | 27 => 0x3E8F45C0#32
  | 28 => 0x3F7746EA#32
  | 29 => 0xBE7363EE#32
  | 30 => 0xBF79EE89#32
  | 31 => 0x3E47C5C2#32
  | 32 => 0x3F7C1C5C#32
  | 33 => 0xBE1BC63C#32
  | 34 => 0xBF7DCF55#32
  | 35 => 0x3DDEF599#32
  | 36 => 0x3F7F069E#32
  | 37 => 0xBD85F213#32
  | 38 => 0xBF7FC1A0#32
  | 39 => 0x3CB2B521#32
  | 40 => 0x3F800000#32
  | 41 => 0x3CB2B521#32
  | 42 => 0xBF7FC1A0#32
  | 43 => 0xBD85F213#32
  | 44 => 0x3F7F069E#32
  | 45 => 0x3DDEF599#32
  | 46 => 0xBF7DCF55#32
  | 47 => 0xBE1BC63C#32
  | 48 => 0x3F7C1C5C#32
  | 49 => 0x3E47C5C2#32
  | 50 => 0xBF79EE89#32
  | 51 => 0xBE7363EE#32
  | 52 => 0x3F7746EA#32
  | 53 => 0x3E8F45C0#32
  | 54 => 0xBF7426CB#32
  | 55 => 0xBEA493B7#32
  | 56 => 0x3F708FB2#32
  | 57 => 0x3EB9917B#32
  | 58 => 0xBF6C835E#32
  | 59 => 0xBECE34D0#32
  | 60 => 0x3F6803CA#32
  | 61 => 0x3EE273AA#32
  | 62 => 0xBF631324#32
  | 63 => 0xBEF64429#32
  | 64 => 0x3F5DB3D7#32
  | 65 => 0x3F04CE53#32
  | 66 => 0xBF57E880#32
  | 67 => 0xBF0E39DA#32
  | 68 => 0x3F51B3F3#32
  | 69 => 0x3F176012#32
  | 70 => 0xBF4B1934#32
  | 71 => 0xBF203C85#32
  | 72 => 0x3F441B7D#32
  | 73 => 0x3F28CAE3#32
  | 74 => 0xBF3CBE35#32
  | 75 => 0xBF310700#32
  | 76 => 0x3F3504F3#32
  | 77 => 0x3F38ECD8#32
  | 78 => 0xBF2CF37B#32
  | 79 => 0xBF407893#32
  | 80 => 0x3F248DBB#32
  | 81 => 0x3F47A682#32
  | 82 => 0xBF1BD7CA#32
  | 83 => 0xBF4E7327#32
  | 84 => 0x3F12D5E8#32
  | 85 => 0x3F54DB31#32
  | 86 => 0xBF098C78#32
  | 87 => 0xBF5ADB81#32
  | 88 => 0x3F000000#32
  | 89 => 0x3F60712A#32
  | 90 => 0xBEEC6A50#32
  | 91 => 0xBF659974#32
  | 92 => 0x3ED8616C#32
  | 93 => 0x3F6A51DA#32
  | 94 => 0xBEC3EF15#32
  | 95 => 0xBF6E9811#32
  | 96 => 0x3EAF1D44#32
  | 97 => 0x3F726A03#32
  | 98 => 0xBE99F61C#32
  | 99 => 0xBF75C5D4#32
  | 100 => 0x3E8483EE#32
  | 101 => 0x3F78A9E0#32
  | 102 => 0xBE5DA259#32
  | 103 => 0xBF7B14BE#32
  | 104 => 0x3E31D0D4#32
  | 105 => 0x3F7D0543#32
  | 106 => 0xBE05A8A8#32
  | 107 => 0xBF7E7A7A#32
  | 108 => 0x3DB27EB6#32
  | 109 => 0x3F7F73AF#32
  | 110 => 0xBD32AA3E#32
  | 111 => 0xBF7FF067#32
  | 112 => 0xA50D3132#32
  | 113 => 0x3F7FF067#32
  | 114 => 0x3D32AA3E#32
  | 115 => 0xBF7F73AF#32
  | 116 => 0xBDB27EB6#32
  | 117 => 0x3F7E7A7A#32
  | 118 => 0x3E05A8A8#32
  | 119 => 0xBF7D0543#32
  | 120 => 0xBE31D0D4#32
  | 121 => 0x3F7B14BE#32
  | 122 => 0x3E5DA259#32
  | 123 => 0xBF78A9E0#32
  | 124 => 0xBE8483EE#32
  | 125 => 0x3F75C5D4#32
  | 126 => 0x3E99F61C#32
  | 127 => 0xBF726A03#32
  | _ => 0#32

noncomputable abbrev lit1t0_161 (i : Nat) : BitVec 32 := match i % 128 with
  | 0 => 0xBEAF1D44#32
  | 1 => 0x3F6E9811#32
  | 2 => 0x3EC3EF15#32
  | 3 => 0xBF6A51DA#32
  | 4 => 0xBED8616C#32
  | 5 => 0x3F659974#32
  | 6 => 0x3EEC6A50#32
  | 7 => 0xBF60712A#32
  | 8 => 0xBF000000#32
  | 9 => 0x3F5ADB81#32
  | 10 => 0x3F098C78#32
  | 11 => 0xBF54DB31#32
  | 12 => 0xBF12D5E8#32
  | 13 => 0x3F4E7327#32
  | 14 => 0x3F1BD7CA#32
  | 15 => 0xBF47A682#32
  | 16 => 0xBF248DBB#32
  | 17 => 0x3F407893#32
  | 18 => 0x3F2CF37B#32
  | 19 => 0xBF38ECD8#32
  | 20 => 0xBF3504F3#32
  | 21 => 0x3F310700#32
  | 22 => 0x3F3CBE35#32
  | 23 => 0xBF28CAE3#32
  | 24 => 0xBF441B7D#32
  | 25 => 0x3F203C85#32
  | 26 => 0x3F4B1934#32
  | 27 => 0xBF176012#32
  | 28 => 0xBF51B3F3#32
  | 29 => 0x3F0E39DA#32
  | 30 => 0x3F57E880#32
  | 31 => 0xBF04CE53#32
  | 32 => 0xBF5DB3D7#32
  | 33 => 0x3EF64429#32
  | 34 => 0x3F631324#32
  | 35 => 0xBEE273AA#32
  | 36 => 0xBF6803CA#32
  | 37 => 0x3ECE34D0#32
  | 38 => 0x3F6C835E#32
  | 39 => 0xBEB9917B#32
  | 40 => 0xBF708FB2#32
  | 41 => 0x3EA493B7#32
  | 42 => 0x3F7426CB#32
  | 43 => 0xBE8F45C0#32
  | 44 => 0xBF7746EA#32
  | 45 => 0x3E7363EE#32
  | 46 => 0x3F79EE89#32
  | 47 => 0xBE47C5C2#32
  | 48 => 0xBF7C1C5C#32
  | 49 => 0x3E1BC63C#32
  | 50 => 0x3F7DCF55#32
  | 51 => 0xBDDEF599#32
  | 52 => 0xBF7F069E#32
  | 53 => 0x3D85F213#32
  | 54 => 0x3F7FC1A0#32
  | 55 => 0xBCB2B521#32
  | 56 => 0xBF800000#32
  | 57 => 0xBCB2B521#32
  | 58 => 0x3F7FC1A0#32
  | 59 => 0x3D85F213#32
  | 60 => 0xBF7F069E#32
  | 61 => 0xBDDEF599#32
  | 62 => 0x3F7DCF55#32
  | 63 => 0x3E1BC63C#32
  | 64 => 0xBF7C1C5C#32
  | 65 => 0xBE47C5C2#32
  | 66 => 0x3F79EE89#32
  | 67 => 0x3E7363EE#32
  | 68 => 0xBF7746EA#32
  | 69 => 0xBE8F45C0#32
  | 70 => 0x3F7426CB#32
  | 71 => 0x3EA493B7#32
  | 72 => 0xBF708FB2#32
  | 73 => 0xBEB9917B#32
  | 74 => 0x3F6C835E#32
  | 75 => 0x3ECE34D0#32
  | 76 => 0xBF6803CA#32
  | 77 => 0xBEE273AA#32
  | 78 => 0x3F631324#32
  | 79 => 0x3EF64429#32
  | 80 => 0xBF5DB3D7#32
  | 81 => 0xBF04CE53#32
  | 82 => 0x3F57E880#32
  | 83 => 0x3F0E39DA#32
  | 84 => 0xBF51B3F3#32
  | 85 => 0xBF176012#32
  | 86 => 0x3F4B1934#32
  | 87 => 0x3F203C85#32
  | 88 => 0xBF441B7D#32
  | 89 => 0xBF28CAE3#32
  | 90 => 0x3F3CBE35#32
  | 91 => 0x3F310700#32
  | 92 => 0xBF3504F3#32
  | 93 => 0xBF38ECD8#32
  | 94 => 0x3F2CF37B#32
  | 95 => 0x3F407893#32
  | 96 => 0xBF248DBB#32
  | 97 => 0xBF47A682#32
  | 98 => 0x3F1BD7CA#32
  | 99 => 0x3F4E7327#32
  | 100 => 0xBF12D5E8#32
  | 101 => 0xBF54DB31#32
  | 102 => 0x3F098C78#32
  | 103 => 0x3F5ADB81#32
  | 104 => 0xBF000000#32
  | 105 => 0xBF60712A#32
  | 106 => 0x3EEC6A50#32
  | 107 => 0x3F659974#32
  | 108 => 0xBED8616C#32
  | 109 => 0xBF6A51DA#32
  | 110 => 0x3EC3EF15#32
  | 111 => 0x3F6E9811#32
  | 112 => 0xBEAF1D44#32
  | 113 => 0xBF726A03#32
  | 114 => 0x3E99F61C#32
  | 115 => 0x3F75C5D4#32
  | 116 => 0xBE8483EE#32
  | 117 => 0xBF78A9E0#32
  | 118 => 0x3E5DA259#32
  | 119 => 0x3F7B14BE#32
  | 120 => 0xBE31D0D4#32
  | 121 => 0xBF7D0543#32
  | 122 => 0x3E05A8A8#32
  | 123 => 0x3F7E7A7A#32
  | 124 => 0xBDB27EB6#32
  | 125 => 0xBF7F73AF#32
  | 126 => 0x3D32AA3E#32
  | 127 => 0x3F7FF067#32
  | _ => 0#32

noncomputable abbrev lit1t0_162 (i : Nat) : BitVec 32 := match i % 128 with
  | 0 => 0x80000000#32
  | 1 => 0xBF800000#32
  | 2 => 0xA50D3132#32
  | 3 => 0x3F800000#32
  | 4 => 0x80000000#32
  | 5 => 0xBF800000#32
  | 6 => 0xA50D3132#32
  | 7 => 0x3F800000#32
  | 8 => 0x80000000#32
  | 9 => 0xBF800000#32
  | 10 => 0xA50D3132#32
  | 11 => 0x3F800000#32
  | 12 => 0x80000000#32
  | 13 => 0xBF800000#32
  | 14 => 0xA50D3132#32
  | 15 => 0x3F800000#32
  | 16 => 0x80000000#32
  | 17 => 0xBF800000#32
  | 18 => 0xA50D3132#32
  | 19 => 0x3F800000#32
  | 20 => 0x80000000#32
  | 21 => 0xBF800000#32
  | 22 => 0xA50D3132#32
  | 23 => 0x3F800000#32
  | 24 => 0x80000000#32
  | 25 => 0xBF800000#32
  | 26 => 0xA50D3132#32
  | 27 => 0x3F800000#32
  | 28 => 0x80000000#32
  | 29 => 0xBF800000#32
  | 30 => 0xA50D3132#32
  | 31 => 0x3F800000#32
  | 32 => 0x80000000#32
  | 33 => 0xBF800000#32
  | 34 => 0xA50D3132#32
  | 35 => 0x3F800000#32
  | 36 => 0x80000000#32
  | 37 => 0xBF800000#32
  | 38 => 0xA50D3132#32
  | 39 => 0x3F800000#32
  | 40 => 0x80000000#32
  | 41 => 0xBF800000#32
  | 42 => 0xA50D3132#32
  | 43 => 0x3F800000#32
  | 44 => 0x80000000#32
  | 45 => 0xBF800000#32
  | 46 => 0xA50D3132#32
  | 47 => 0x3F800000#32
  | 48 => 0x80000000#32
  | 49 => 0xBF800000#32
  | 50 => 0xA50D3132#32
  | 51 => 0x3F800000#32
  | 52 => 0x80000000#32
  | 53 => 0xBF800000#32
  | 54 => 0xA50D3132#32
  | 55 => 0x3F800000#32
  | 56 => 0x80000000#32
  | 57 => 0xBF800000#32
  | 58 => 0xA50D3132#32
  | 59 => 0x3F800000#32
  | 60 => 0x80000000#32
  | 61 => 0xBF800000#32
  | 62 => 0xA50D3132#32
  | 63 => 0x3F800000#32
  | 64 => 0x80000000#32
  | 65 => 0xBF800000#32
  | 66 => 0xA50D3132#32
  | 67 => 0x3F800000#32
  | 68 => 0x80000000#32
  | 69 => 0xBF800000#32
  | 70 => 0xA50D3132#32
  | 71 => 0x3F800000#32
  | 72 => 0x80000000#32
  | 73 => 0xBF800000#32
  | 74 => 0xA50D3132#32
  | 75 => 0x3F800000#32
  | 76 => 0x80000000#32
  | 77 => 0xBF800000#32
  | 78 => 0xA50D3132#32
  | 79 => 0x3F800000#32
  | 80 => 0x80000000#32
  | 81 => 0xBF800000#32
  | 82 => 0xA50D3132#32
  | 83 => 0x3F800000#32
  | 84 => 0x80000000#32
  | 85 => 0xBF800000#32
  | 86 => 0xA50D3132#32
  | 87 => 0x3F800000#32
  | 88 => 0x80000000#32
  | 89 => 0xBF800000#32
  | 90 => 0xA50D3132#32
  | 91 => 0x3F800000#32
  | 92 => 0x80000000#32
  | 93 => 0xBF800000#32
  | 94 => 0xA50D3132#32
  | 95 => 0x3F800000#32
  | 96 => 0x80000000#32
  | 97 => 0xBF800000#32
  | 98 => 0xA50D3132#32
  | 99 => 0x3F800000#32
  | 100 => 0x80000000#32
  | 101 => 0xBF800000#32
  | 102 => 0xA50D3132#32
  | 103 => 0x3F800000#32
  | 104 => 0x80000000#32
  | 105 => 0xBF800000#32
  | 106 => 0xA50D3132#32
  | 107 => 0x3F800000#32
  | 108 => 0x80000000#32
  | 109 => 0xBF800000#32
  | 110 => 0xA50D3132#32
  | 111 => 0x3F800000#32
  | 112 => 0x80000000#32
  | 113 => 0xBF800000#32
  | 114 => 0xA50D3132#32
  | 115 => 0x3F800000#32
  | 116 => 0x80000000#32
  | 117 => 0xBF800000#32
  | 118 => 0xA50D3132#32
  | 119 => 0x3F800000#32
  | 120 => 0x80000000#32
  | 121 => 0xBF800000#32
  | 122 => 0xA50D3132#32
  | 123 => 0x3F800000#32
  | 124 => 0x80000000#32
  | 125 => 0xBF800000#32
  | 126 => 0xA50D3132#32
  | 127 => 0x3F800000#32
  | _ => 0#32

noncomputable abbrev lit1t0_163 (i : Nat) : BitVec 32 := match i % 128 with
  | 0 => 0x80000000#32
  | 1 => 0xBF800000#32
  | 2 => 0xA50D3132#32
  | 3 => 0x3F800000#32
  | 4 => 0x80000000#32
  | 5 => 0xBF800000#32
  | 6 => 0xA50D3132#32
  | 7 => 0x3F800000#32
  | 8 => 0x80000000#32
  | 9 => 0xBF800000#32
  | 10 => 0xA50D3132#32
  | 11 => 0x3F800000#32
  | 12 => 0x80000000#32
  | 13 => 0xBF800000#32
  | 14 => 0xA50D3132#32
  | 15 => 0x3F800000#32
  | 16 => 0x80000000#32
  | 17 => 0xBF800000#32
  | 18 => 0xA50D3132#32
  | 19 => 0x3F800000#32
  | 20 => 0x80000000#32
  | 21 => 0xBF800000#32
  | 22 => 0xA50D3132#32
  | 23 => 0x3F800000#32
  | 24 => 0x80000000#32
  | 25 => 0xBF800000#32
  | 26 => 0xA50D3132#32
  | 27 => 0x3F800000#32
  | 28 => 0x80000000#32
  | 29 => 0xBF800000#32
  | 30 => 0xA50D3132#32
  | 31 => 0x3F800000#32
  | 32 => 0x80000000#32
  | 33 => 0xBF800000#32
  | 34 => 0xA50D3132#32
  | 35 => 0x3F800000#32
  | 36 => 0x80000000#32
  | 37 => 0xBF800000#32
  | 38 => 0xA50D3132#32
  | 39 => 0x3F800000#32
  | 40 => 0x80000000#32
  | 41 => 0xBF800000#32
  | 42 => 0xA50D3132#32
  | 43 => 0x3F800000#32
  | 44 => 0x80000000#32
  | 45 => 0xBF800000#32
  | 46 => 0xA50D3132#32
  | 47 => 0x3F800000#32
  | 48 => 0x80000000#32
  | 49 => 0xBF800000#32
  | 50 => 0xA50D3132#32
  | 51 => 0x3F800000#32
  | 52 => 0x80000000#32
  | 53 => 0xBF800000#32
  | 54 => 0xA50D3132#32
  | 55 => 0x3F800000#32
  | 56 => 0x80000000#32
  | 57 => 0xBF800000#32
  | 58 => 0xA50D3132#32
  | 59 => 0x3F800000#32
  | 60 => 0x80000000#32
  | 61 => 0xBF800000#32
  | 62 => 0xA50D3132#32
  | 63 => 0x3F800000#32
  | 64 => 0x80000000#32
  | 65 => 0xBF800000#32
  | 66 => 0xA50D3132#32
  | 67 => 0x3F800000#32
  | 68 => 0x80000000#32
  | 69 => 0xBF800000#32
  | 70 => 0xA50D3132#32
  | 71 => 0x3F800000#32
  | 72 => 0x80000000#32
  | 73 => 0xBF800000#32
  | 74 => 0xA50D3132#32
  | 75 => 0x3F800000#32
  | 76 => 0x80000000#32
  | 77 => 0xBF800000#32
  | 78 => 0xA50D3132#32
  | 79 => 0x3F800000#32
  | 80 => 0x80000000#32
  | 81 => 0xBF800000#32
  | 82 => 0xA50D3132#32
  | 83 => 0x3F800000#32
  | 84 => 0x80000000#32
  | 85 => 0xBF800000#32
  | 86 => 0xA50D3132#32
  | 87 => 0x3F800000#32
  | 88 => 0x80000000#32
  | 89 => 0xBF800000#32
  | 90 => 0xA50D3132#32
  | 91 => 0x3F800000#32
  | 92 => 0x80000000#32
  | 93 => 0xBF800000#32
  | 94 => 0xA50D3132#32
  | 95 => 0x3F800000#32
  | 96 => 0x80000000#32
  | 97 => 0xBF800000#32
  | 98 => 0xA50D3132#32
  | 99 => 0x3F800000#32
  | 100 => 0x80000000#32
  | 101 => 0xBF800000#32
  | 102 => 0xA50D3132#32
  | 103 => 0x3F800000#32
  | 104 => 0x80000000#32
  | 105 => 0xBF800000#32
  | 106 => 0xA50D3132#32
  | 107 => 0x3F800000#32
  | 108 => 0x80000000#32
  | 109 => 0xBF800000#32
  | 110 => 0xA50D3132#32
  | 111 => 0x3F800000#32
  | 112 => 0x80000000#32
  | 113 => 0xBF800000#32
  | 114 => 0xA50D3132#32
  | 115 => 0x3F800000#32
  | 116 => 0x80000000#32
  | 117 => 0xBF800000#32
  | 118 => 0xA50D3132#32
  | 119 => 0x3F800000#32
  | 120 => 0x80000000#32
  | 121 => 0xBF800000#32
  | 122 => 0xA50D3132#32
  | 123 => 0x3F800000#32
  | 124 => 0x80000000#32
  | 125 => 0xBF800000#32
  | 126 => 0xA50D3132#32
  | 127 => 0x3F800000#32
  | _ => 0#32

noncomputable abbrev lit1t0_164 (i : Nat) : BitVec 32 := match i % 128 with
  | 0 => 0x80000000#32
  | 1 => 0xBF800000#32
  | 2 => 0xA50D3132#32
  | 3 => 0x3F800000#32
  | 4 => 0x80000000#32
  | 5 => 0xBF800000#32
  | 6 => 0xA50D3132#32
  | 7 => 0x3F800000#32
  | 8 => 0x80000000#32
  | 9 => 0xBF800000#32
  | 10 => 0xA50D3132#32
  | 11 => 0x3F800000#32
  | 12 => 0x80000000#32
  | 13 => 0xBF800000#32
  | 14 => 0xA50D3132#32
  | 15 => 0x3F800000#32
  | 16 => 0x80000000#32
  | 17 => 0xBF800000#32
  | 18 => 0xA50D3132#32
  | 19 => 0x3F800000#32
  | 20 => 0x80000000#32
  | 21 => 0xBF800000#32
  | 22 => 0xA50D3132#32
  | 23 => 0x3F800000#32
  | 24 => 0x80000000#32
  | 25 => 0xBF800000#32
  | 26 => 0xA50D3132#32
  | 27 => 0x3F800000#32
  | 28 => 0x80000000#32
  | 29 => 0xBF800000#32
  | 30 => 0xA50D3132#32
  | 31 => 0x3F800000#32
  | 32 => 0x80000000#32
  | 33 => 0xBF7FF067#32
  | 34 => 0x3D32AA3E#32
  | 35 => 0x3F7F73AF#32
  | 36 => 0xBDB27EB6#32
  | 37 => 0xBF7E7A7A#32
  | 38 => 0x3E05A8A8#32
  | 39 => 0x3F7D0543#32
  | 40 => 0xBE31D0D4#32
  | 41 => 0xBF7B14BE#32
  | 42 => 0x3E5DA259#32
  | 43 => 0x3F78A9E0#32
  | 44 => 0xBE8483EE#32
  | 45 => 0xBF75C5D4#32
  | 46 => 0x3E99F61C#32
  | 47 => 0x3F726A03#32
  | 48 => 0xBEAF1D44#32
  | 49 => 0xBF6E9811#32
  | 50 => 0x3EC3EF15#32
  | 51 => 0x3F6A51DA#32
  | 52 => 0xBED8616C#32
  | 53 => 0xBF659974#32
  | 54 => 0x3EEC6A50#32
  | 55 => 0x3F60712A#32
  | 56 => 0xBF000000#32
  | 57 => 0xBF5ADB81#32
  | 58 => 0x3F098C78#32
  | 59 => 0x3F54DB31#32
  | 60 => 0xBF12D5E8#32
  | 61 => 0xBF4E7327#32
  | 62 => 0x3F1BD7CA#32
  | 63 => 0x3F47A682#32
  | 64 => 0xBF248DBB#32
  | 65 => 0xBF407893#32
  | 66 => 0x3F2CF37B#32
  | 67 => 0x3F38ECD8#32
  | 68 => 0xBF3504F3#32
  | 69 => 0xBF310700#32
  | 70 => 0x3F3CBE35#32
  | 71 => 0x3F28CAE3#32
  | 72 => 0xBF441B7D#32
  | 73 => 0xBF203C85#32
  | 74 => 0x3F4B1934#32
  | 75 => 0x3F176012#32
  | 76 => 0xBF51B3F3#32
  | 77 => 0xBF0E39DA#32
  | 78 => 0x3F57E880#32
  | 79 => 0x3F04CE53#32
  | 80 => 0xBF5DB3D7#32
  | 81 => 0xBEF64429#32
  | 82 => 0x3F631324#32
  | 83 => 0x3EE273AA#32
  | 84 => 0xBF6803CA#32
  | 85 => 0xBECE34D0#32
  | 86 => 0x3F6C835E#32
  | 87 => 0x3EB9917B#32
  | 88 => 0xBF708FB2#32
  | 89 => 0xBEA493B7#32
  | 90 => 0x3F7426CB#32
  | 91 => 0x3E8F45C0#32
  | 92 => 0xBF7746EA#32
  | 93 => 0xBE7363EE#32
  | 94 => 0x3F79EE89#32
  | 95 => 0x3E47C5C2#32
  | 96 => 0xBF7C1C5C#32
  | 97 => 0xBE1BC63C#32
  | 98 => 0x3F7DCF55#32
  | 99 => 0x3DDEF599#32
  | 100 => 0xBF7F069E#32
  | 101 => 0xBD85F213#32
  | 102 => 0x3F7FC1A0#32
  | 103 => 0x3CB2B521#32
  | 104 => 0xBF800000#32
  | 105 => 0x3CB2B521#32
  | 106 => 0x3F7FC1A0#32
  | 107 => 0xBD85F213#32
  | 108 => 0xBF7F069E#32
  | 109 => 0x3DDEF599#32
  | 110 => 0x3F7DCF55#32
  | 111 => 0xBE1BC63C#32
  | 112 => 0xBF7C1C5C#32
  | 113 => 0x3E47C5C2#32
  | 114 => 0x3F79EE89#32
  | 115 => 0xBE7363EE#32
  | 116 => 0xBF7746EA#32
  | 117 => 0x3E8F45C0#32
  | 118 => 0x3F7426CB#32
  | 119 => 0xBEA493B7#32
  | 120 => 0xBF708FB2#32
  | 121 => 0x3EB9917B#32
  | 122 => 0x3F6C835E#32
  | 123 => 0xBECE34D0#32
  | 124 => 0xBF6803CA#32
  | 125 => 0x3EE273AA#32
  | 126 => 0x3F631324#32
  | 127 => 0xBEF64429#32
  | _ => 0#32

noncomputable abbrev lit1t0_165 (i : Nat) : BitVec 32 := match i % 128 with
  | 0 => 0xBF5DB3D7#32
  | 1 => 0x3F04CE53#32
  | 2 => 0x3F57E880#32
  | 3 => 0xBF0E39DA#32
  | 4 => 0xBF51B3F3#32
  | 5 => 0x3F176012#32
  | 6 => 0x3F4B1934#32
  | 7 => 0xBF203C85#32
  | 8 => 0xBF441B7D#32
  | 9 => 0x3F28CAE3#32
  | 10 => 0x3F3CBE35#32
  | 11 => 0xBF310700#32
  | 12 => 0xBF3504F3#32
  | 13 => 0x3F38ECD8#32
  | 14 => 0x3F2CF37B#32
  | 15 => 0xBF407893#32
  | 16 => 0xBF248DBB#32
  | 17 => 0x3F47A682#32
  | 18 => 0x3F1BD7CA#32
  | 19 => 0xBF4E7327#32
  | 20 => 0xBF12D5E8#32
  | 21 => 0x3F54DB31#32
  | 22 => 0x3F098C78#32
  | 23 => 0xBF5ADB81#32
  | 24 => 0xBF000000#32
  | 25 => 0x3F60712A#32
  | 26 => 0x3EEC6A50#32
  | 27 => 0xBF659974#32
  | 28 => 0xBED8616C#32
  | 29 => 0x3F6A51DA#32
  | 30 => 0x3EC3EF15#32
  | 31 => 0xBF6E9811#32
  | 32 => 0xBEAF1D44#32
  | 33 => 0x3F726A03#32
  | 34 => 0x3E99F61C#32
  | 35 => 0xBF75C5D4#32
  | 36 => 0xBE8483EE#32
  | 37 => 0x3F78A9E0#32
  | 38 => 0x3E5DA259#32
  | 39 => 0xBF7B14BE#32
  | 40 => 0xBE31D0D4#32
  | 41 => 0x3F7D0543#32
  | 42 => 0x3E05A8A8#32
  | 43 => 0xBF7E7A7A#32
  | 44 => 0xBDB27EB6#32
  | 45 => 0x3F7F73AF#32
  | 46 => 0x3D32AA3E#32
  | 47 => 0xBF7FF067#32
  | 48 => 0xA50D3132#32
  | 49 => 0x3F7FF067#32
  | 50 => 0xBD32AA3E#32
  | 51 => 0xBF7F73AF#32
  | 52 => 0x3DB27EB6#32
  | 53 => 0x3F7E7A7A#32
  | 54 => 0xBE05A8A8#32
  | 55 => 0xBF7D0543#32
  | 56 => 0x3E31D0D4#32
  | 57 => 0x3F7B14BE#32
  | 58 => 0xBE5DA259#32
  | 59 => 0xBF78A9E0#32
  | 60 => 0x3E8483EE#32
  | 61 => 0x3F75C5D4#32
  | 62 => 0xBE99F61C#32
  | 63 => 0xBF726A03#32
  | 64 => 0x3EAF1D44#32
  | 65 => 0x3F6E9811#32
  | 66 => 0xBEC3EF15#32
  | 67 => 0xBF6A51DA#32
  | 68 => 0x3ED8616C#32
  | 69 => 0x3F659974#32
  | 70 => 0xBEEC6A50#32
  | 71 => 0xBF60712A#32
  | 72 => 0x3F000000#32
  | 73 => 0x3F5ADB81#32
  | 74 => 0xBF098C78#32
  | 75 => 0xBF54DB31#32
  | 76 => 0x3F12D5E8#32
  | 77 => 0x3F4E7327#32
  | 78 => 0xBF1BD7CA#32
  | 79 => 0xBF47A682#32
  | 80 => 0x3F248DBB#32
  | 81 => 0x3F407893#32
  | 82 => 0xBF2CF37B#32
  | 83 => 0xBF38ECD8#32
  | 84 => 0x3F3504F3#32
  | 85 => 0x3F310700#32
  | 86 => 0xBF3CBE35#32
  | 87 => 0xBF28CAE3#32
  | 88 => 0x3F441B7D#32
  | 89 => 0x3F203C85#32
  | 90 => 0xBF4B1934#32
  | 91 => 0xBF176012#32
  | 92 => 0x3F51B3F3#32
  | 93 => 0x3F0E39DA#32
  | 94 => 0xBF57E880#32
  | 95 => 0xBF04CE53#32
  | 96 => 0x3F5DB3D7#32
  | 97 => 0x3EF64429#32
  | 98 => 0xBF631324#32
  | 99 => 0xBEE273AA#32
  | 100 => 0x3F6803CA#32
  | 101 => 0x3ECE34D0#32
  | 102 => 0xBF6C835E#32
  | 103 => 0xBEB9917B#32
  | 104 => 0x3F708FB2#32
  | 105 => 0x3EA493B7#32
  | 106 => 0xBF7426CB#32
  | 107 => 0xBE8F45C0#32
  | 108 => 0x3F7746EA#32
  | 109 => 0x3E7363EE#32
  | 110 => 0xBF79EE89#32
  | 111 => 0xBE47C5C2#32
  | 112 => 0x3F7C1C5C#32
  | 113 => 0x3E1BC63C#32
  | 114 => 0xBF7DCF55#32
  | 115 => 0xBDDEF599#32
  | 116 => 0x3F7F069E#32
  | 117 => 0x3D85F213#32
  | 118 => 0xBF7FC1A0#32
  | 119 => 0xBCB2B521#32
  | 120 => 0x3F800000#32
  | 121 => 0xBCB2B521#32
  | 122 => 0xBF7FC1A0#32
  | 123 => 0x3D85F213#32
  | 124 => 0x3F7F069E#32
  | 125 => 0xBDDEF599#32
  | 126 => 0xBF7DCF55#32
  | 127 => 0x3E1BC63C#32
  | _ => 0#32

noncomputable abbrev lit1t0_166 (i : Nat) : BitVec 32 := match i % 128 with
  | 0 => 0x3F7C1C5C#32
  | 1 => 0xBE47C5C2#32
  | 2 => 0xBF79EE89#32
  | 3 => 0x3E7363EE#32
  | 4 => 0x3F7746EA#32
  | 5 => 0xBE8F45C0#32
  | 6 => 0xBF7426CB#32
  | 7 => 0x3EA493B7#32
  | 8 => 0x3F708FB2#32
  | 9 => 0xBEB9917B#32
  | 10 => 0xBF6C835E#32
  | 11 => 0x3ECE34D0#32
  | 12 => 0x3F6803CA#32
  | 13 => 0xBEE273AA#32
  | 14 => 0xBF631324#32
  | 15 => 0x3EF64429#32
  | 16 => 0x3F5DB3D7#32
  | 17 => 0xBF04CE53#32
  | 18 => 0xBF57E880#32
  | 19 => 0x3F0E39DA#32
  | 20 => 0x3F51B3F3#32
  | 21 => 0xBF176012#32
  | 22 => 0xBF4B1934#32
  | 23 => 0x3F203C85#32
  | 24 => 0x3F441B7D#32
  | 25 => 0xBF28CAE3#32
  | 26 => 0xBF3CBE35#32
  | 27 => 0x3F310700#32
  | 28 => 0x3F3504F3#32
  | 29 => 0xBF38ECD8#32
  | 30 => 0xBF2CF37B#32
  | 31 => 0x3F407893#32
  | 32 => 0x3F248DBB#32
  | 33 => 0xBF47A682#32
  | 34 => 0xBF1BD7CA#32
  | 35 => 0x3F4E7327#32
  | 36 => 0x3F12D5E8#32
  | 37 => 0xBF54DB31#32
  | 38 => 0xBF098C78#32
  | 39 => 0x3F5ADB81#32
  | 40 => 0x3F000000#32
  | 41 => 0xBF60712A#32
  | 42 => 0xBEEC6A50#32
  | 43 => 0x3F659974#32
  | 44 => 0x3ED8616C#32
  | 45 => 0xBF6A51DA#32
  | 46 => 0xBEC3EF15#32
  | 47 => 0x3F6E9811#32
  | 48 => 0x3EAF1D44#32
  | 49 => 0xBF726A03#32
  | 50 => 0xBE99F61C#32
  | 51 => 0x3F75C5D4#32
  | 52 => 0x3E8483EE#32
  | 53 => 0xBF78A9E0#32
  | 54 => 0xBE5DA259#32
  | 55 => 0x3F7B14BE#32
  | 56 => 0x3E31D0D4#32
  | 57 => 0xBF7D0543#32
  | 58 => 0xBE05A8A8#32
  | 59 => 0x3F7E7A7A#32
  | 60 => 0x3DB27EB6#32
  | 61 => 0xBF7F73AF#32
  | 62 => 0xBD32AA3E#32
  | 63 => 0x3F7FF067#32
  | 64 => 0x80000000#32
  | 65 => 0xBF7FC1A0#32
  | 66 => 0x3DB27EB6#32
  | 67 => 0x3F7DCF55#32
  | 68 => 0xBE31D0D4#32
  | 69 => 0xBF79EE89#32
  | 70 => 0x3E8483EE#32
  | 71 => 0x3F7426CB#32
  | 72 => 0xBEAF1D44#32
  | 73 => 0xBF6C835E#32
  | 74 => 0x3ED8616C#32
  | 75 => 0x3F631324#32
  | 76 => 0xBF000000#32
  | 77 => 0xBF57E880#32
  | 78 => 0x3F12D5E8#32
  | 79 => 0x3F4B1934#32
  | 80 => 0xBF248DBB#32
  | 81 => 0xBF3CBE35#32
  | 82 => 0x3F3504F3#32
  | 83 => 0x3F2CF37B#32
  | 84 => 0xBF441B7D#32
  | 85 => 0xBF1BD7CA#32
  | 86 => 0x3F51B3F3#32
  | 87 => 0x3F098C78#32
  | 88 => 0xBF5DB3D7#32
  | 89 => 0xBEEC6A50#32
  | 90 => 0x3F6803CA#32
  | 91 => 0x3EC3EF15#32
  | 92 => 0xBF708FB2#32
  | 93 => 0xBE99F61C#32
  | 94 => 0x3F7746EA#32
  | 95 => 0x3E5DA259#32
  | 96 => 0xBF7C1C5C#32
  | 97 => 0xBE05A8A8#32
  | 98 => 0x3F7F069E#32
  | 99 => 0x3D32AA3E#32
  | 100 => 0xBF800000#32
  | 101 => 0x3D32AA3E#32
  | 102 => 0x3F7F069E#32
  | 103 => 0xBE05A8A8#32
  | 104 => 0xBF7C1C5C#32
  | 105 => 0x3E5DA259#32
  | 106 => 0x3F7746EA#32
  | 107 => 0xBE99F61C#32
  | 108 => 0xBF708FB2#32
  | 109 => 0x3EC3EF15#32
  | 110 => 0x3F6803CA#32
  | 111 => 0xBEEC6A50#32
  | 112 => 0xBF5DB3D7#32
  | 113 => 0x3F098C78#32
  | 114 => 0x3F51B3F3#32
  | 115 => 0xBF1BD7CA#32
  | 116 => 0xBF441B7D#32
  | 117 => 0x3F2CF37B#32
  | 118 => 0x3F3504F3#32
  | 119 => 0xBF3CBE35#32
  | 120 => 0xBF248DBB#32
  | 121 => 0x3F4B1934#32
  | 122 => 0x3F12D5E8#32
  | 123 => 0xBF57E880#32
  | 124 => 0xBF000000#32
  | 125 => 0x3F631324#32
  | 126 => 0x3ED8616C#32
  | 127 => 0xBF6C835E#32
  | _ => 0#32

noncomputable abbrev lit1t0_167 (i : Nat) : BitVec 32 := match i % 128 with
  | 0 => 0xBEAF1D44#32
  | 1 => 0x3F7426CB#32
  | 2 => 0x3E8483EE#32
  | 3 => 0xBF79EE89#32
  | 4 => 0xBE31D0D4#32
  | 5 => 0x3F7DCF55#32
  | 6 => 0x3DB27EB6#32
  | 7 => 0xBF7FC1A0#32
  | 8 => 0xA50D3132#32
  | 9 => 0x3F7FC1A0#32
  | 10 => 0xBDB27EB6#32
  | 11 => 0xBF7DCF55#32
  | 12 => 0x3E31D0D4#32
  | 13 => 0x3F79EE89#32
  | 14 => 0xBE8483EE#32
  | 15 => 0xBF7426CB#32
  | 16 => 0x3EAF1D44#32
  | 17 => 0x3F6C835E#32
  | 18 => 0xBED8616C#32
  | 19 => 0xBF631324#32
  | 20 => 0x3F000000#32
  | 21 => 0x3F57E880#32
  | 22 => 0xBF12D5E8#32
  | 23 => 0xBF4B1934#32
  | 24 => 0x3F248DBB#32
  | 25 => 0x3F3CBE35#32
  | 26 => 0xBF3504F3#32
  | 27 => 0xBF2CF37B#32
  | 28 => 0x3F441B7D#32
  | 29 => 0x3F1BD7CA#32
  | 30 => 0xBF51B3F3#32
  | 31 => 0xBF098C78#32
  | 32 => 0x3F5DB3D7#32
  | 33 => 0x3EEC6A50#32
  | 34 => 0xBF6803CA#32
  | 35 => 0xBEC3EF15#32
  | 36 => 0x3F708FB2#32
  | 37 => 0x3E99F61C#32
  | 38 => 0xBF7746EA#32
  | 39 => 0xBE5DA259#32
  | 40 => 0x3F7C1C5C#32
  | 41 => 0x3E05A8A8#32
  | 42 => 0xBF7F069E#32
  | 43 => 0xBD32AA3E#32
  | 44 => 0x3F800000#32
  | 45 => 0xBD32AA3E#32
  | 46 => 0xBF7F069E#32
  | 47 => 0x3E05A8A8#32
  | 48 => 0x3F7C1C5C#32
  | 49 => 0xBE5DA259#32
  | 50 => 0xBF7746EA#32
  | 51 => 0x3E99F61C#32
  | 52 => 0x3F708FB2#32
  | 53 => 0xBEC3EF15#32
  | 54 => 0xBF6803CA#32
  | 55 => 0x3EEC6A50#32
  | 56 => 0x3F5DB3D7#32
  | 57 => 0xBF098C78#32
  | 58 => 0xBF51B3F3#32
  | 59 => 0x3F1BD7CA#32
  | 60 => 0x3F441B7D#32
  | 61 => 0xBF2CF37B#32
  | 62 => 0xBF3504F3#32
  | 63 => 0x3F3CBE35#32
  | 64 => 0x3F248DBB#32
  | 65 => 0xBF4B1934#32
  | 66 => 0xBF12D5E8#32
  | 67 => 0x3F57E880#32
  | 68 => 0x3F000000#32
  | 69 => 0xBF631324#32
  | 70 => 0xBED8616C#32
  | 71 => 0x3F6C835E#32
  | 72 => 0x3EAF1D44#32
  | 73 => 0xBF7426CB#32
  | 74 => 0xBE8483EE#32
  | 75 => 0x3F79EE89#32
  | 76 => 0x3E31D0D4#32
  | 77 => 0xBF7DCF55#32
  | 78 => 0xBDB27EB6#32
  | 79 => 0x3F7FC1A0#32
  | 80 => 0x80000000#32
  | 81 => 0xBF7FC1A0#32
  | 82 => 0x3DB27EB6#32
  | 83 => 0x3F7DCF55#32
  | 84 => 0xBE31D0D4#32
  | 85 => 0xBF79EE89#32
  | 86 => 0x3E8483EE#32
  | 87 => 0x3F7426CB#32
  | 88 => 0xBEAF1D44#32
  | 89 => 0xBF6C835E#32
  | 90 => 0x3ED8616C#32
  | 91 => 0x3F631324#32
  | 92 => 0xBF000000#32
  | 93 => 0xBF57E880#32
  | 94 => 0x3F12D5E8#32
  | 95 => 0x3F4B1934#32
  | 96 => 0xBF248DBB#32
  | 97 => 0xBF3CBE35#32
  | 98 => 0x3F3504F3#32
  | 99 => 0x3F2CF37B#32
  | 100 => 0xBF441B7D#32
  | 101 => 0xBF1BD7CA#32
  | 102 => 0x3F51B3F3#32
  | 103 => 0x3F098C78#32
  | 104 => 0xBF5DB3D7#32
  | 105 => 0xBEEC6A50#32
  | 106 => 0x3F6803CA#32
  | 107 => 0x3EC3EF15#32
  | 108 => 0xBF708FB2#32
  | 109 => 0xBE99F61C#32
  | 110 => 0x3F7746EA#32
  | 111 => 0x3E5DA259#32
  | 112 => 0xBF7C1C5C#32
  | 113 => 0xBE05A8A8#32
  | 114 => 0x3F7F069E#32
  | 115 => 0x3D32AA3E#32
  | 116 => 0xBF800000#32
  | 117 => 0x3D32AA3E#32
  | 118 => 0x3F7F069E#32
  | 119 => 0xBE05A8A8#32
  | 120 => 0xBF7C1C5C#32
  | 121 => 0x3E5DA259#32
  | 122 => 0x3F7746EA#32
  | 123 => 0xBE99F61C#32
  | 124 => 0xBF708FB2#32
  | 125 => 0x3EC3EF15#32
  | 126 => 0x3F6803CA#32
  | 127 => 0xBEEC6A50#32
  | _ => 0#32

noncomputable abbrev lit1t0_168 (i : Nat) : BitVec 32 := match i % 128 with
  | 0 => 0xBF5DB3D7#32
  | 1 => 0x3F098C78#32
  | 2 => 0x3F51B3F3#32
  | 3 => 0xBF1BD7CA#32
  | 4 => 0xBF441B7D#32
  | 5 => 0x3F2CF37B#32
  | 6 => 0x3F3504F3#32
  | 7 => 0xBF3CBE35#32
  | 8 => 0xBF248DBB#32
  | 9 => 0x3F4B1934#32
  | 10 => 0x3F12D5E8#32
  | 11 => 0xBF57E880#32
  | 12 => 0xBF000000#32
  | 13 => 0x3F631324#32
  | 14 => 0x3ED8616C#32
  | 15 => 0xBF6C835E#32
  | 16 => 0xBEAF1D44#32
  | 17 => 0x3F7426CB#32
  | 18 => 0x3E8483EE#32
  | 19 => 0xBF79EE89#32
  | 20 => 0xBE31D0D4#32
  | 21 => 0x3F7DCF55#32
  | 22 => 0x3DB27EB6#32
  | 23 => 0xBF7FC1A0#32
  | 24 => 0xA50D3132#32
  | 25 => 0x3F7FC1A0#32
  | 26 => 0xBDB27EB6#32
  | 27 => 0xBF7DCF55#32
  | 28 => 0x3E31D0D4#32
  | 29 => 0x3F79EE89#32
  | 30 => 0xBE8483EE#32
  | 31 => 0xBF7426CB#32
  | 32 => 0x3EAF1D44#32
  | 33 => 0x3F6C835E#32
  | 34 => 0xBED8616C#32
  | 35 => 0xBF631324#32
  | 36 => 0x3F000000#32
  | 37 => 0x3F57E880#32
  | 38 => 0xBF12D5E8#32
  | 39 => 0xBF4B1934#32
  | 40 => 0x3F248DBB#32
  | 41 => 0x3F3CBE35#32
  | 42 => 0xBF3504F3#32
  | 43 => 0xBF2CF37B#32
  | 44 => 0x3F441B7D#32
  | 45 => 0x3F1BD7CA#32
  | 46 => 0xBF51B3F3#32
  | 47 => 0xBF098C78#32
  | 48 => 0x3F5DB3D7#32
  | 49 => 0x3EEC6A50#32
  | 50 => 0xBF6803CA#32
  | 51 => 0xBEC3EF15#32
  | 52 => 0x3F708FB2#32
  | 53 => 0x3E99F61C#32
  | 54 => 0xBF7746EA#32
  | 55 => 0xBE5DA259#32
  | 56 => 0x3F7C1C5C#32
  | 57 => 0x3E05A8A8#32
  | 58 => 0xBF7F069E#32
  | 59 => 0xBD32AA3E#32
  | 60 => 0x3F800000#32
  | 61 => 0xBD32AA3E#32
  | 62 => 0xBF7F069E#32
  | 63 => 0x3E05A8A8#32
  | 64 => 0x3F7C1C5C#32
  | 65 => 0xBE5DA259#32
  | 66 => 0xBF7746EA#32
  | 67 => 0x3E99F61C#32
  | 68 => 0x3F708FB2#32
  | 69 => 0xBEC3EF15#32
  | 70 => 0xBF6803CA#32
  | 71 => 0x3EEC6A50#32
  | 72 => 0x3F5DB3D7#32
  | 73 => 0xBF098C78#32
  | 74 => 0xBF51B3F3#32
  | 75 => 0x3F1BD7CA#32
  | 76 => 0x3F441B7D#32
  | 77 => 0xBF2CF37B#32
  | 78 => 0xBF3504F3#32
  | 79 => 0x3F3CBE35#32
  | 80 => 0x3F248DBB#32
  | 81 => 0xBF4B1934#32
  | 82 => 0xBF12D5E8#32
  | 83 => 0x3F57E880#32
  | 84 => 0x3F000000#32
  | 85 => 0xBF631324#32
  | 86 => 0xBED8616C#32
  | 87 => 0x3F6C835E#32
  | 88 => 0x3EAF1D44#32
  | 89 => 0xBF7426CB#32
  | 90 => 0xBE8483EE#32
  | 91 => 0x3F79EE89#32
  | 92 => 0x3E31D0D4#32
  | 93 => 0xBF7DCF55#32
  | 94 => 0xBDB27EB6#32
  | 95 => 0x3F7FC1A0#32
  | 96 => 0x80000000#32
  | 97 => 0xBF7F73AF#32
  | 98 => 0x3E05A8A8#32
  | 99 => 0x3F7B14BE#32
  | 100 => 0xBE8483EE#32
  | 101 => 0xBF726A03#32
  | 102 => 0x3EC3EF15#32
  | 103 => 0x3F659974#32
  | 104 => 0xBF000000#32
  | 105 => 0xBF54DB31#32
  | 106 => 0x3F1BD7CA#32
  | 107 => 0x3F407893#32
  | 108 => 0xBF3504F3#32
  | 109 => 0xBF28CAE3#32
  | 110 => 0x3F4B1934#32
  | 111 => 0x3F0E39DA#32
  | 112 => 0xBF5DB3D7#32
  | 113 => 0xBEE273AA#32
  | 114 => 0x3F6C835E#32
  | 115 => 0x3EA493B7#32
  | 116 => 0xBF7746EA#32
  | 117 => 0xBE47C5C2#32
  | 118 => 0x3F7DCF55#32
  | 119 => 0x3D85F213#32
  | 120 => 0xBF800000#32
  | 121 => 0x3D85F213#32
  | 122 => 0x3F7DCF55#32
  | 123 => 0xBE47C5C2#32
  | 124 => 0xBF7746EA#32
  | 125 => 0x3EA493B7#32
  | 126 => 0x3F6C835E#32
  | 127 => 0xBEE273AA#32
  | _ => 0#32

noncomputable abbrev lit1t0_169 (i : Nat) : BitVec 32 := match i % 128 with
  | 0 => 0xBF5DB3D7#32
  | 1 => 0x3F0E39DA#32
  | 2 => 0x3F4B1934#32
  | 3 => 0xBF28CAE3#32
  | 4 => 0xBF3504F3#32
  | 5 => 0x3F407893#32
  | 6 => 0x3F1BD7CA#32
  | 7 => 0xBF54DB31#32
  | 8 => 0xBF000000#32
  | 9 => 0x3F659974#32
  | 10 => 0x3EC3EF15#32
  | 11 => 0xBF726A03#32
  | 12 => 0xBE8483EE#32
  | 13 => 0x3F7B14BE#32
  | 14 => 0x3E05A8A8#32
  | 15 => 0xBF7F73AF#32
  | 16 => 0xA50D3132#32
  | 17 => 0x3F7F73AF#32
  | 18 => 0xBE05A8A8#32
  | 19 => 0xBF7B14BE#32
  | 20 => 0x3E8483EE#32
  | 21 => 0x3F726A03#32
  | 22 => 0xBEC3EF15#32
  | 23 => 0xBF659974#32
  | 24 => 0x3F000000#32
  | 25 => 0x3F54DB31#32
  | 26 => 0xBF1BD7CA#32
  | 27 => 0xBF407893#32
  | 28 => 0x3F3504F3#32
  | 29 => 0x3F28CAE3#32
  | 30 => 0xBF4B1934#32
  | 31 => 0xBF0E39DA#32
  | 32 => 0x3F5DB3D7#32
  | 33 => 0x3EE273AA#32
  | 34 => 0xBF6C835E#32
  | 35 => 0xBEA493B7#32
  | 36 => 0x3F7746EA#32
  | 37 => 0x3E47C5C2#32
  | 38 => 0xBF7DCF55#32
  | 39 => 0xBD85F213#32
  | 40 => 0x3F800000#32
  | 41 => 0xBD85F213#32
  | 42 => 0xBF7DCF55#32
  | 43 => 0x3E47C5C2#32
  | 44 => 0x3F7746EA#32
  | 45 => 0xBEA493B7#32
  | 46 => 0xBF6C835E#32
  | 47 => 0x3EE273AA#32
  | 48 => 0x3F5DB3D7#32
  | 49 => 0xBF0E39DA#32
  | 50 => 0xBF4B1934#32
  | 51 => 0x3F28CAE3#32
  | 52 => 0x3F3504F3#32
  | 53 => 0xBF407893#32
  | 54 => 0xBF1BD7CA#32
  | 55 => 0x3F54DB31#32
  | 56 => 0x3F000000#32
  | 57 => 0xBF659974#32
  | 58 => 0xBEC3EF15#32
  | 59 => 0x3F726A03#32
  | 60 => 0x3E8483EE#32
  | 61 => 0xBF7B14BE#32
  | 62 => 0xBE05A8A8#32
  | 63 => 0x3F7F73AF#32
  | 64 => 0x80000000#32
  | 65 => 0xBF7F73AF#32
  | 66 => 0x3E05A8A8#32
  | 67 => 0x3F7B14BE#32
  | 68 => 0xBE8483EE#32
  | 69 => 0xBF726A03#32
  | 70 => 0x3EC3EF15#32
  | 71 => 0x3F659974#32
  | 72 => 0xBF000000#32
  | 73 => 0xBF54DB31#32
  | 74 => 0x3F1BD7CA#32
  | 75 => 0x3F407893#32
  | 76 => 0xBF3504F3#32
  | 77 => 0xBF28CAE3#32
  | 78 => 0x3F4B1934#32
  | 79 => 0x3F0E39DA#32
  | 80 => 0xBF5DB3D7#32
  | 81 => 0xBEE273AA#32
  | 82 => 0x3F6C835E#32
  | 83 => 0x3EA493B7#32
  | 84 => 0xBF7746EA#32
  | 85 => 0xBE47C5C2#32
  | 86 => 0x3F7DCF55#32
  | 87 => 0x3D85F213#32
  | 88 => 0xBF800000#32
  | 89 => 0x3D85F213#32
  | 90 => 0x3F7DCF55#32
  | 91 => 0xBE47C5C2#32
  | 92 => 0xBF7746EA#32
  | 93 => 0x3EA493B7#32
  | 94 => 0x3F6C835E#32
  | 95 => 0xBEE273AA#32
  | 96 => 0xBF5DB3D7#32
  | 97 => 0x3F0E39DA#32
  | 98 => 0x3F4B1934#32
  | 99 => 0xBF28CAE3#32
  | 100 => 0xBF3504F3#32
  | 101 => 0x3F407893#32
  | 102 => 0x3F1BD7CA#32
  | 103 => 0xBF54DB31#32
  | 104 => 0xBF000000#32
  | 105 => 0x3F659974#32
  | 106 => 0x3EC3EF15#32
  | 107 => 0xBF726A03#32
  | 108 => 0xBE8483EE#32
  | 109 => 0x3F7B14BE#32
  | 110 => 0x3E05A8A8#32
  | 111 => 0xBF7F73AF#32
  | 112 => 0xA50D3132#32
  | 113 => 0x3F7F73AF#32
  | 114 => 0xBE05A8A8#32
  | 115 => 0xBF7B14BE#32
  | 116 => 0x3E8483EE#32
  | 117 => 0x3F726A03#32
  | 118 => 0xBEC3EF15#32
  | 119 => 0xBF659974#32
  | 120 => 0x3F000000#32
  | 121 => 0x3F54DB31#32
  | 122 => 0xBF1BD7CA#32
  | 123 => 0xBF407893#32
  | 124 => 0x3F3504F3#32
  | 125 => 0x3F28CAE3#32
  | 126 => 0xBF4B1934#32
  | 127 => 0xBF0E39DA#32
  | _ => 0#32

noncomputable abbrev lit1t0_170 (i : Nat) : BitVec 32 := match i % 128 with
  | 0 => 0x3F5DB3D7#32
  | 1 => 0x3EE273AA#32
  | 2 => 0xBF6C835E#32
  | 3 => 0xBEA493B7#32
  | 4 => 0x3F7746EA#32
  | 5 => 0x3E47C5C2#32
  | 6 => 0xBF7DCF55#32
  | 7 => 0xBD85F213#32
  | 8 => 0x3F800000#32
  | 9 => 0xBD85F213#32
  | 10 => 0xBF7DCF55#32
  | 11 => 0x3E47C5C2#32
  | 12 => 0x3F7746EA#32
  | 13 => 0xBEA493B7#32
  | 14 => 0xBF6C835E#32
  | 15 => 0x3EE273AA#32
  | 16 => 0x3F5DB3D7#32
  | 17 => 0xBF0E39DA#32
  | 18 => 0xBF4B1934#32
  | 19 => 0x3F28CAE3#32
  | 20 => 0x3F3504F3#32
  | 21 => 0xBF407893#32
  | 22 => 0xBF1BD7CA#32
  | 23 => 0x3F54DB31#32
  | 24 => 0x3F000000#32
  | 25 => 0xBF659974#32
  | 26 => 0xBEC3EF15#32
  | 27 => 0x3F726A03#32
  | 28 => 0x3E8483EE#32
  | 29 => 0xBF7B14BE#32
  | 30 => 0xBE05A8A8#32
  | 31 => 0x3F7F73AF#32
  | 32 => 0x80000000#32
  | 33 => 0xBF7F73AF#32
  | 34 => 0x3E05A8A8#32
  | 35 => 0x3F7B14BE#32
  | 36 => 0xBE8483EE#32
  | 37 => 0xBF726A03#32
  | 38 => 0x3EC3EF15#32
  | 39 => 0x3F659974#32
  | 40 => 0xBF000000#32
  | 41 => 0xBF54DB31#32
  | 42 => 0x3F1BD7CA#32
  | 43 => 0x3F407893#32
  | 44 => 0xBF3504F3#32
  | 45 => 0xBF28CAE3#32
  | 46 => 0x3F4B1934#32
  | 47 => 0x3F0E39DA#32
  | 48 => 0xBF5DB3D7#32
  | 49 => 0xBEE273AA#32
  | 50 => 0x3F6C835E#32
  | 51 => 0x3EA493B7#32
  | 52 => 0xBF7746EA#32
  | 53 => 0xBE47C5C2#32
  | 54 => 0x3F7DCF55#32
  | 55 => 0x3D85F213#32
  | 56 => 0xBF800000#32
  | 57 => 0x3D85F213#32
  | 58 => 0x3F7DCF55#32
  | 59 => 0xBE47C5C2#32
  | 60 => 0xBF7746EA#32
  | 61 => 0x3EA493B7#32
  | 62 => 0x3F6C835E#32
  | 63 => 0xBEE273AA#32
  | 64 => 0xBF5DB3D7#32
  | 65 => 0x3F0E39DA#32
  | 66 => 0x3F4B1934#32
  | 67 => 0xBF28CAE3#32
  | 68 => 0xBF3504F3#32
  | 69 => 0x3F407893#32
  | 70 => 0x3F1BD7CA#32
  | 71 => 0xBF54DB31#32
  | 72 => 0xBF000000#32
  | 73 => 0x3F659974#32
  | 74 => 0x3EC3EF15#32
  | 75 => 0xBF726A03#32
  | 76 => 0xBE8483EE#32
  | 77 => 0x3F7B14BE#32
  | 78 => 0x3E05A8A8#32
  | 79 => 0xBF7F73AF#32
  | 80 => 0xA50D3132#32
  | 81 => 0x3F7F73AF#32
  | 82 => 0xBE05A8A8#32
  | 83 => 0xBF7B14BE#32
  | 84 => 0x3E8483EE#32
  | 85 => 0x3F726A03#32
  | 86 => 0xBEC3EF15#32
  | 87 => 0xBF659974#32
  | 88 => 0x3F000000#32
  | 89 => 0x3F54DB31#32
  | 90 => 0xBF1BD7CA#32
  | 91 => 0xBF407893#32
  | 92 => 0x3F3504F3#32
  | 93 => 0x3F28CAE3#32
  | 94 => 0xBF4B1934#32
  | 95 => 0xBF0E39DA#32
  | 96 => 0x3F5DB3D7#32
  | 97 => 0x3EE273AA#32
  | 98 => 0xBF6C835E#32
  | 99 => 0xBEA493B7#32
  | 100 => 0x3F7746EA#32
  | 101 => 0x3E47C5C2#32
  | 102 => 0xBF7DCF55#32
  | 103 => 0xBD85F213#32
  | 104 => 0x3F800000#32
  | 105 => 0xBD85F213#32
  | 106 => 0xBF7DCF55#32
  | 107 => 0x3E47C5C2#32
  | 108 => 0x3F7746EA#32
  | 109 => 0xBEA493B7#32
  | 110 => 0xBF6C835E#32
  | 111 => 0x3EE273AA#32
  | 112 => 0x3F5DB3D7#32
  | 113 => 0xBF0E39DA#32
  | 114 => 0xBF4B1934#32
  | 115 => 0x3F28CAE3#32
  | 116 => 0x3F3504F3#32
  | 117 => 0xBF407893#32
  | 118 => 0xBF1BD7CA#32
  | 119 => 0x3F54DB31#32
  | 120 => 0x3F000000#32
  | 121 => 0xBF659974#32
  | 122 => 0xBEC3EF15#32
  | 123 => 0x3F726A03#32
  | 124 => 0x3E8483EE#32
  | 125 => 0xBF7B14BE#32
  | 126 => 0xBE05A8A8#32
  | 127 => 0x3F7F73AF#32
  | _ => 0#32

noncomputable abbrev lit1t0_171 (i : Nat) : BitVec 32 := match i % 128 with
  | 0 => 0x80000000#32
  | 1 => 0xBF7F069E#32
  | 2 => 0x3E31D0D4#32
  | 3 => 0x3F7746EA#32
  | 4 => 0xBEAF1D44#32
  | 5 => 0xBF6803CA#32
  | 6 => 0x3F000000#32
  | 7 => 0x3F51B3F3#32
  | 8 => 0xBF248DBB#32
  | 9 => 0xBF3504F3#32
  | 10 => 0x3F441B7D#32
  | 11 => 0x3F12D5E8#32
  | 12 => 0xBF5DB3D7#32
  | 13 => 0xBED8616C#32
  | 14 => 0x3F708FB2#32
  | 15 => 0x3E8483EE#32
  | 16 => 0xBF7C1C5C#32
  | 17 => 0xBDB27EB6#32
  | 18 => 0x3F800000#32
  | 19 => 0xBDB27EB6#32
  | 20 => 0xBF7C1C5C#32
  | 21 => 0x3E8483EE#32
  | 22 => 0x3F708FB2#32
  | 23 => 0xBED8616C#32
  | 24 => 0xBF5DB3D7#32
  | 25 => 0x3F12D5E8#32
  | 26 => 0x3F441B7D#32
  | 27 => 0xBF3504F3#32
  | 28 => 0xBF248DBB#32
  | 29 => 0x3F51B3F3#32
  | 30 => 0x3F000000#32
  | 31 => 0xBF6803CA#32
  | 32 => 0xBEAF1D44#32
  | 33 => 0x3F7746EA#32
  | 34 => 0x3E31D0D4#32
  | 35 => 0xBF7F069E#32
  | 36 => 0xA50D3132#32
  | 37 => 0x3F7F069E#32
  | 38 => 0xBE31D0D4#32
  | 39 => 0xBF7746EA#32
  | 40 => 0x3EAF1D44#32
  | 41 => 0x3F6803CA#32
  | 42 => 0xBF000000#32
  | 43 => 0xBF51B3F3#32
  | 44 => 0x3F248DBB#32
  | 45 => 0x3F3504F3#32
  | 46 => 0xBF441B7D#32
  | 47 => 0xBF12D5E8#32
  | 48 => 0x3F5DB3D7#32
  | 49 => 0x3ED8616C#32
  | 50 => 0xBF708FB2#32
  | 51 => 0xBE8483EE#32
  | 52 => 0x3F7C1C5C#32
  | 53 => 0x3DB27EB6#32
  | 54 => 0xBF800000#32
  | 55 => 0x3DB27EB6#32
  | 56 => 0x3F7C1C5C#32
  | 57 => 0xBE8483EE#32
  | 58 => 0xBF708FB2#32
  | 59 => 0x3ED8616C#32
  | 60 => 0x3F5DB3D7#32
  | 61 => 0xBF12D5E8#32
  | 62 => 0xBF441B7D#32
  | 63 => 0x3F3504F3#32
  | 64 => 0x3F248DBB#32
  | 65 => 0xBF51B3F3#32
  | 66 => 0xBF000000#32
  | 67 => 0x3F6803CA#32
  | 68 => 0x3EAF1D44#32
  | 69 => 0xBF7746EA#32
  | 70 => 0xBE31D0D4#32
  | 71 => 0x3F7F069E#32
  | 72 => 0x80000000#32
  | 73 => 0xBF7F069E#32
  | 74 => 0x3E31D0D4#32
  | 75 => 0x3F7746EA#32
  | 76 => 0xBEAF1D44#32
  | 77 => 0xBF6803CA#32
  | 78 => 0x3F000000#32
  | 79 => 0x3F51B3F3#32
  | 80 => 0xBF248DBB#32
  | 81 => 0xBF3504F3#32
  | 82 => 0x3F441B7D#32
  | 83 => 0x3F12D5E8#32
  | 84 => 0xBF5DB3D7#32
  | 85 => 0xBED8616C#32
  | 86 => 0x3F708FB2#32
  | 87 => 0x3E8483EE#32
  | 88 => 0xBF7C1C5C#32
  | 89 => 0xBDB27EB6#32
  | 90 => 0x3F800000#32
  | 91 => 0xBDB27EB6#32
  | 92 => 0xBF7C1C5C#32
  | 93 => 0x3E8483EE#32
  | 94 => 0x3F708FB2#32
  | 95 => 0xBED8616C#32
  | 96 => 0xBF5DB3D7#32
  | 97 => 0x3F12D5E8#32
  | 98 => 0x3F441B7D#32
  | 99 => 0xBF3504F3#32
  | 100 => 0xBF248DBB#32
  | 101 => 0x3F51B3F3#32
  | 102 => 0x3F000000#32
  | 103 => 0xBF6803CA#32
  | 104 => 0xBEAF1D44#32
  | 105 => 0x3F7746EA#32
  | 106 => 0x3E31D0D4#32
  | 107 => 0xBF7F069E#32
  | 108 => 0xA50D3132#32
  | 109 => 0x3F7F069E#32
  | 110 => 0xBE31D0D4#32
  | 111 => 0xBF7746EA#32
  | 112 => 0x3EAF1D44#32
  | 113 => 0x3F6803CA#32
  | 114 => 0xBF000000#32
  | 115 => 0xBF51B3F3#32
  | 116 => 0x3F248DBB#32
  | 117 => 0x3F3504F3#32
  | 118 => 0xBF441B7D#32
  | 119 => 0xBF12D5E8#32
  | 120 => 0x3F5DB3D7#32
  | 121 => 0x3ED8616C#32
  | 122 => 0xBF708FB2#32
  | 123 => 0xBE8483EE#32
  | 124 => 0x3F7C1C5C#32
  | 125 => 0x3DB27EB6#32
  | 126 => 0xBF800000#32
  | 127 => 0x3DB27EB6#32
  | _ => 0#32

noncomputable abbrev lit1t0_172 (i : Nat) : BitVec 32 := match i % 128 with
  | 0 => 0x3F7C1C5C#32
  | 1 => 0xBE8483EE#32
  | 2 => 0xBF708FB2#32
  | 3 => 0x3ED8616C#32
  | 4 => 0x3F5DB3D7#32
  | 5 => 0xBF12D5E8#32
  | 6 => 0xBF441B7D#32
  | 7 => 0x3F3504F3#32
  | 8 => 0x3F248DBB#32
  | 9 => 0xBF51B3F3#32
  | 10 => 0xBF000000#32
  | 11 => 0x3F6803CA#32
  | 12 => 0x3EAF1D44#32
  | 13 => 0xBF7746EA#32
  | 14 => 0xBE31D0D4#32
  | 15 => 0x3F7F069E#32
  | 16 => 0x80000000#32
  | 17 => 0xBF7F069E#32
  | 18 => 0x3E31D0D4#32
  | 19 => 0x3F7746EA#32
  | 20 => 0xBEAF1D44#32
  | 21 => 0xBF6803CA#32
  | 22 => 0x3F000000#32
  | 23 => 0x3F51B3F3#32
  | 24 => 0xBF248DBB#32
  | 25 => 0xBF3504F3#32
  | 26 => 0x3F441B7D#32
  | 27 => 0x3F12D5E8#32
  | 28 => 0xBF5DB3D7#32
  | 29 => 0xBED8616C#32
  | 30 => 0x3F708FB2#32
  | 31 => 0x3E8483EE#32
  | 32 => 0xBF7C1C5C#32
  | 33 => 0xBDB27EB6#32
  | 34 => 0x3F800000#32
  | 35 => 0xBDB27EB6#32
  | 36 => 0xBF7C1C5C#32
  | 37 => 0x3E8483EE#32
  | 38 => 0x3F708FB2#32
  | 39 => 0xBED8616C#32
  | 40 => 0xBF5DB3D7#32
  | 41 => 0x3F12D5E8#32
  | 42 => 0x3F441B7D#32
  | 43 => 0xBF3504F3#32
  | 44 => 0xBF248DBB#32
  | 45 => 0x3F51B3F3#32
  | 46 => 0x3F000000#32
  | 47 => 0xBF6803CA#32
  | 48 => 0xBEAF1D44#32
  | 49 => 0x3F7746EA#32
  | 50 => 0x3E31D0D4#32
  | 51 => 0xBF7F069E#32
  | 52 => 0xA50D3132#32
  | 53 => 0x3F7F069E#32
  | 54 => 0xBE31D0D4#32
  | 55 => 0xBF7746EA#32
  | 56 => 0x3EAF1D44#32
  | 57 => 0x3F6803CA#32
  | 58 => 0xBF000000#32
  | 59 => 0xBF51B3F3#32
  | 60 => 0x3F248DBB#32
  | 61 => 0x3F3504F3#32
  | 62 => 0xBF441B7D#32
  | 63 => 0xBF12D5E8#32
  | 64 => 0x3F5DB3D7#32
  | 65 => 0x3ED8616C#32
  | 66 => 0xBF708FB2#32
  | 67 => 0xBE8483EE#32
  | 68 => 0x3F7C1C5C#32
  | 69 => 0x3DB27EB6#32
  | 70 => 0xBF800000#32
  | 71 => 0x3DB27EB6#32
  | 72 => 0x3F7C1C5C#32
  | 73 => 0xBE8483EE#32
  | 74 => 0xBF708FB2#32
  | 75 => 0x3ED8616C#32
  | 76 => 0x3F5DB3D7#32
  | 77 => 0xBF12D5E8#32
  | 78 => 0xBF441B7D#32
  | 79 => 0x3F3504F3#32
  | 80 => 0x3F248DBB#32
  | 81 => 0xBF51B3F3#32
  | 82 => 0xBF000000#32
  | 83 => 0x3F6803CA#32
  | 84 => 0x3EAF1D44#32
  | 85 => 0xBF7746EA#32
  | 86 => 0xBE31D0D4#32
  | 87 => 0x3F7F069E#32
  | 88 => 0x80000000#32
  | 89 => 0xBF7F069E#32
  | 90 => 0x3E31D0D4#32
  | 91 => 0x3F7746EA#32
  | 92 => 0xBEAF1D44#32
  | 93 => 0xBF6803CA#32
  | 94 => 0x3F000000#32
  | 95 => 0x3F51B3F3#32
  | 96 => 0xBF248DBB#32
  | 97 => 0xBF3504F3#32
  | 98 => 0x3F441B7D#32
  | 99 => 0x3F12D5E8#32
  | 100 => 0xBF5DB3D7#32
  | 101 => 0xBED8616C#32
  | 102 => 0x3F708FB2#32
  | 103 => 0x3E8483EE#32
  | 104 => 0xBF7C1C5C#32
  | 105 => 0xBDB27EB6#32
  | 106 => 0x3F800000#32
  | 107 => 0xBDB27EB6#32
  | 108 => 0xBF7C1C5C#32
  | 109 => 0x3E8483EE#32
  | 110 => 0x3F708FB2#32
  | 111 => 0xBED8616C#32
  | 112 => 0xBF5DB3D7#32
  | 113 => 0x3F12D5E8#32
  | 114 => 0x3F441B7D#32
  | 115 => 0xBF3504F3#32
  | 116 => 0xBF248DBB#32
  | 117 => 0x3F51B3F3#32
  | 118 => 0x3F000000#32
  | 119 => 0xBF6803CA#32
  | 120 => 0xBEAF1D44#32
  | 121 => 0x3F7746EA#32
  | 122 => 0x3E31D0D4#32
  | 123 => 0xBF7F069E#32
  | 124 => 0xA50D3132#32
  | 125 => 0x3F7F069E#32
  | 126 => 0xBE31D0D4#32
  | 127 => 0xBF7746EA#32
  | _ => 0#32

noncomputable abbrev lit1t0_173 (i : Nat) : BitVec 32 := match i % 128 with
  | 0 => 0x3EAF1D44#32
  | 1 => 0x3F6803CA#32
  | 2 => 0xBF000000#32
  | 3 => 0xBF51B3F3#32
  | 4 => 0x3F248DBB#32
  | 5 => 0x3F3504F3#32
  | 6 => 0xBF441B7D#32
  | 7 => 0xBF12D5E8#32
  | 8 => 0x3F5DB3D7#32
  | 9 => 0x3ED8616C#32
  | 10 => 0xBF708FB2#32
  | 11 => 0xBE8483EE#32
  | 12 => 0x3F7C1C5C#32
  | 13 => 0x3DB27EB6#32
  | 14 => 0xBF800000#32
  | 15 => 0x3DB27EB6#32
  | 16 => 0x3F7C1C5C#32
  | 17 => 0xBE8483EE#32
  | 18 => 0xBF708FB2#32
  | 19 => 0x3ED8616C#32
  | 20 => 0x3F5DB3D7#32
  | 21 => 0xBF12D5E8#32
  | 22 => 0xBF441B7D#32
  | 23 => 0x3F3504F3#32
  | 24 => 0x3F248DBB#32
  | 25 => 0xBF51B3F3#32
  | 26 => 0xBF000000#32
  | 27 => 0x3F6803CA#32
  | 28 => 0x3EAF1D44#32
  | 29 => 0xBF7746EA#32
  | 30 => 0xBE31D0D4#32
  | 31 => 0x3F7F069E#32
  | 32 => 0x80000000#32
  | 33 => 0xBF7E7A7A#32
  | 34 => 0x3E5DA259#32
  | 35 => 0x3F726A03#32
  | 36 => 0xBED8616C#32
  | 37 => 0xBF5ADB81#32
  | 38 => 0x3F1BD7CA#32
  | 39 => 0x3F38ECD8#32
  | 40 => 0xBF441B7D#32
  | 41 => 0xBF0E39DA#32
  | 42 => 0x3F631324#32
  | 43 => 0x3EB9917B#32
  | 44 => 0xBF7746EA#32
  | 45 => 0xBE1BC63C#32
  | 46 => 0x3F7FC1A0#32
  | 47 => 0xBD85F213#32
  | 48 => 0xBF7C1C5C#32
  | 49 => 0x3E8F45C0#32
  | 50 => 0x3F6C835E#32
  | 51 => 0xBEF64429#32
  | 52 => 0xBF51B3F3#32
  | 53 => 0x3F28CAE3#32
  | 54 => 0x3F2CF37B#32
  | 55 => 0xBF4E7327#32
  | 56 => 0xBF000000#32
  | 57 => 0x3F6A51DA#32
  | 58 => 0x3E99F61C#32
  | 59 => 0xBF7B14BE#32
  | 60 => 0xBDB27EB6#32
  | 61 => 0x3F7FF067#32
  | 62 => 0xBE05A8A8#32
  | 63 => 0xBF78A9E0#32
  | 64 => 0x3EAF1D44#32
  | 65 => 0x3F659974#32
  | 66 => 0xBF098C78#32
  | 67 => 0xBF47A682#32
  | 68 => 0x3F3504F3#32
  | 69 => 0x3F203C85#32
  | 70 => 0xBF57E880#32
  | 71 => 0xBEE273AA#32
  | 72 => 0x3F708FB2#32
  | 73 => 0x3E7363EE#32
  | 74 => 0xBF7DCF55#32
  | 75 => 0xBCB2B521#32
  | 76 => 0x3F7F069E#32
  | 77 => 0xBE47C5C2#32
  | 78 => 0xBF7426CB#32
  | 79 => 0x3ECE34D0#32
  | 80 => 0x3F5DB3D7#32
  | 81 => 0xBF176012#32
  | 82 => 0xBF3CBE35#32
  | 83 => 0x3F407893#32
  | 84 => 0x3F12D5E8#32
  | 85 => 0xBF60712A#32
  | 86 => 0xBEC3EF15#32
  | 87 => 0x3F75C5D4#32
  | 88 => 0x3E31D0D4#32
  | 89 => 0xBF7F73AF#32
  | 90 => 0x3D32AA3E#32
  | 91 => 0x3F7D0543#32
  | 92 => 0xBE8483EE#32
  | 93 => 0xBF6E9811#32
  | 94 => 0x3EEC6A50#32
  | 95 => 0x3F54DB31#32
  | 96 => 0xBF248DBB#32
  | 97 => 0xBF310700#32
  | 98 => 0x3F4B1934#32
  | 99 => 0x3F04CE53#32
  | 100 => 0xBF6803CA#32
  | 101 => 0xBEA493B7#32
  | 102 => 0x3F79EE89#32
  | 103 => 0x3DDEF599#32
  | 104 => 0xBF800000#32
  | 105 => 0x3DDEF599#32
  | 106 => 0x3F79EE89#32
  | 107 => 0xBEA493B7#32
  | 108 => 0xBF6803CA#32
  | 109 => 0x3F04CE53#32
  | 110 => 0x3F4B1934#32
  | 111 => 0xBF310700#32
  | 112 => 0xBF248DBB#32
  | 113 => 0x3F54DB31#32
  | 114 => 0x3EEC6A50#32
  | 115 => 0xBF6E9811#32
  | 116 => 0xBE8483EE#32
  | 117 => 0x3F7D0543#32
  | 118 => 0x3D32AA3E#32
  | 119 => 0xBF7F73AF#32
  | 120 => 0x3E31D0D4#32
  | 121 => 0x3F75C5D4#32
  | 122 => 0xBEC3EF15#32
  | 123 => 0xBF60712A#32
  | 124 => 0x3F12D5E8#32
  | 125 => 0x3F407893#32
  | 126 => 0xBF3CBE35#32
  | 127 => 0xBF176012#32
  | _ => 0#32

noncomputable abbrev lit1t0_174 (i : Nat) : BitVec 32 := match i % 128 with
  | 0 => 0x3F5DB3D7#32
  | 1 => 0x3ECE34D0#32
  | 2 => 0xBF7426CB#32
  | 3 => 0xBE47C5C2#32
  | 4 => 0x3F7F069E#32
  | 5 => 0xBCB2B521#32
  | 6 => 0xBF7DCF55#32
  | 7 => 0x3E7363EE#32
  | 8 => 0x3F708FB2#32
  | 9 => 0xBEE273AA#32
  | 10 => 0xBF57E880#32
  | 11 => 0x3F203C85#32
  | 12 => 0x3F3504F3#32
  | 13 => 0xBF47A682#32
  | 14 => 0xBF098C78#32
  | 15 => 0x3F659974#32
  | 16 => 0x3EAF1D44#32
  | 17 => 0xBF78A9E0#32
  | 18 => 0xBE05A8A8#32
  | 19 => 0x3F7FF067#32
  | 20 => 0xBDB27EB6#32
  | 21 => 0xBF7B14BE#32
  | 22 => 0x3E99F61C#32
  | 23 => 0x3F6A51DA#32
  | 24 => 0xBF000000#32
  | 25 => 0xBF4E7327#32
  | 26 => 0x3F2CF37B#32
  | 27 => 0x3F28CAE3#32
  | 28 => 0xBF51B3F3#32
  | 29 => 0xBEF64429#32
  | 30 => 0x3F6C835E#32
  | 31 => 0x3E8F45C0#32
  | 32 => 0xBF7C1C5C#32
  | 33 => 0xBD85F213#32
  | 34 => 0x3F7FC1A0#32
  | 35 => 0xBE1BC63C#32
  | 36 => 0xBF7746EA#32
  | 37 => 0x3EB9917B#32
  | 38 => 0x3F631324#32
  | 39 => 0xBF0E39DA#32
  | 40 => 0xBF441B7D#32
  | 41 => 0x3F38ECD8#32
  | 42 => 0x3F1BD7CA#32
  | 43 => 0xBF5ADB81#32
  | 44 => 0xBED8616C#32
  | 45 => 0x3F726A03#32
  | 46 => 0x3E5DA259#32
  | 47 => 0xBF7E7A7A#32
  | 48 => 0xA50D3132#32
  | 49 => 0x3F7E7A7A#32
  | 50 => 0xBE5DA259#32
  | 51 => 0xBF726A03#32
  | 52 => 0x3ED8616C#32
  | 53 => 0x3F5ADB81#32
  | 54 => 0xBF1BD7CA#32
  | 55 => 0xBF38ECD8#32
  | 56 => 0x3F441B7D#32
  | 57 => 0x3F0E39DA#32
  | 58 => 0xBF631324#32
  | 59 => 0xBEB9917B#32
  | 60 => 0x3F7746EA#32
  | 61 => 0x3E1BC63C#32
  | 62 => 0xBF7FC1A0#32
  | 63 => 0x3D85F213#32
  | 64 => 0x3F7C1C5C#32
  | 65 => 0xBE8F45C0#32
  | 66 => 0xBF6C835E#32
  | 67 => 0x3EF64429#32
  | 68 => 0x3F51B3F3#32
  | 69 => 0xBF28CAE3#32
  | 70 => 0xBF2CF37B#32
  | 71 => 0x3F4E7327#32
  | 72 => 0x3F000000#32
  | 73 => 0xBF6A51DA#32
  | 74 => 0xBE99F61C#32
  | 75 => 0x3F7B14BE#32
  | 76 => 0x3DB27EB6#32
  | 77 => 0xBF7FF067#32
  | 78 => 0x3E05A8A8#32
  | 79 => 0x3F78A9E0#32
  | 80 => 0xBEAF1D44#32
  | 81 => 0xBF659974#32
  | 82 => 0x3F098C78#32
  | 83 => 0x3F47A682#32
  | 84 => 0xBF3504F3#32
  | 85 => 0xBF203C85#32
  | 86 => 0x3F57E880#32
  | 87 => 0x3EE273AA#32
  | 88 => 0xBF708FB2#32
  | 89 => 0xBE7363EE#32
  | 90 => 0x3F7DCF55#32
  | 91 => 0x3CB2B521#32
  | 92 => 0xBF7F069E#32
  | 93 => 0x3E47C5C2#32
  | 94 => 0x3F7426CB#32
  | 95 => 0xBECE34D0#32
  | 96 => 0xBF5DB3D7#32
  | 97 => 0x3F176012#32
  | 98 => 0x3F3CBE35#32
  | 99 => 0xBF407893#32
  | 100 => 0xBF12D5E8#32
  | 101 => 0x3F60712A#32
  | 102 => 0x3EC3EF15#32
  | 103 => 0xBF75C5D4#32
  | 104 => 0xBE31D0D4#32
  | 105 => 0x3F7F73AF#32
  | 106 => 0xBD32AA3E#32
  | 107 => 0xBF7D0543#32
  | 108 => 0x3E8483EE#32
  | 109 => 0x3F6E9811#32
  | 110 => 0xBEEC6A50#32
  | 111 => 0xBF54DB31#32
  | 112 => 0x3F248DBB#32
  | 113 => 0x3F310700#32
  | 114 => 0xBF4B1934#32
  | 115 => 0xBF04CE53#32
  | 116 => 0x3F6803CA#32
  | 117 => 0x3EA493B7#32
  | 118 => 0xBF79EE89#32
  | 119 => 0xBDDEF599#32
  | 120 => 0x3F800000#32
  | 121 => 0xBDDEF599#32
  | 122 => 0xBF79EE89#32
  | 123 => 0x3EA493B7#32
  | 124 => 0x3F6803CA#32
  | 125 => 0xBF04CE53#32
  | 126 => 0xBF4B1934#32
  | 127 => 0x3F310700#32
  | _ => 0#32

noncomputable abbrev lit1t0_175 (i : Nat) : BitVec 32 := match i % 128 with
  | 0 => 0x3F248DBB#32
  | 1 => 0xBF54DB31#32
  | 2 => 0xBEEC6A50#32
  | 3 => 0x3F6E9811#32
  | 4 => 0x3E8483EE#32
  | 5 => 0xBF7D0543#32
  | 6 => 0xBD32AA3E#32
  | 7 => 0x3F7F73AF#32
  | 8 => 0xBE31D0D4#32
  | 9 => 0xBF75C5D4#32
  | 10 => 0x3EC3EF15#32
  | 11 => 0x3F60712A#32
  | 12 => 0xBF12D5E8#32
  | 13 => 0xBF407893#32
  | 14 => 0x3F3CBE35#32
  | 15 => 0x3F176012#32
  | 16 => 0xBF5DB3D7#32
  | 17 => 0xBECE34D0#32
  | 18 => 0x3F7426CB#32
  | 19 => 0x3E47C5C2#32
  | 20 => 0xBF7F069E#32
  | 21 => 0x3CB2B521#32
  | 22 => 0x3F7DCF55#32
  | 23 => 0xBE7363EE#32
  | 24 => 0xBF708FB2#32
  | 25 => 0x3EE273AA#32
  | 26 => 0x3F57E880#32
  | 27 => 0xBF203C85#32
  | 28 => 0xBF3504F3#32
  | 29 => 0x3F47A682#32
  | 30 => 0x3F098C78#32
  | 31 => 0xBF659974#32
  | 32 => 0xBEAF1D44#32
  | 33 => 0x3F78A9E0#32
  | 34 => 0x3E05A8A8#32
  | 35 => 0xBF7FF067#32
  | 36 => 0x3DB27EB6#32
  | 37 => 0x3F7B14BE#32
  | 38 => 0xBE99F61C#32
  | 39 => 0xBF6A51DA#32
  | 40 => 0x3F000000#32
  | 41 => 0x3F4E7327#32
  | 42 => 0xBF2CF37B#32
  | 43 => 0xBF28CAE3#32
  | 44 => 0x3F51B3F3#32
  | 45 => 0x3EF64429#32
  | 46 => 0xBF6C835E#32
  | 47 => 0xBE8F45C0#32
  | 48 => 0x3F7C1C5C#32
  | 49 => 0x3D85F213#32
  | 50 => 0xBF7FC1A0#32
  | 51 => 0x3E1BC63C#32
  | 52 => 0x3F7746EA#32
  | 53 => 0xBEB9917B#32
  | 54 => 0xBF631324#32
  | 55 => 0x3F0E39DA#32
  | 56 => 0x3F441B7D#32
  | 57 => 0xBF38ECD8#32
  | 58 => 0xBF1BD7CA#32
  | 59 => 0x3F5ADB81#32
  | 60 => 0x3ED8616C#32
  | 61 => 0xBF726A03#32
  | 62 => 0xBE5DA259#32
  | 63 => 0x3F7E7A7A#32
  | 64 => 0x80000000#32
  | 65 => 0xBF7DCF55#32
  | 66 => 0x3E8483EE#32
  | 67 => 0x3F6C835E#32
  | 68 => 0xBF000000#32
  | 69 => 0xBF4B1934#32
  | 70 => 0x3F3504F3#32
  | 71 => 0x3F1BD7CA#32
  | 72 => 0xBF5DB3D7#32
  | 73 => 0xBEC3EF15#32
  | 74 => 0x3F7746EA#32
  | 75 => 0x3E05A8A8#32
  | 76 => 0xBF800000#32
  | 77 => 0x3E05A8A8#32
  | 78 => 0x3F7746EA#32
  | 79 => 0xBEC3EF15#32
  | 80 => 0xBF5DB3D7#32
  | 81 => 0x3F1BD7CA#32
  | 82 => 0x3F3504F3#32
  | 83 => 0xBF4B1934#32
  | 84 => 0xBF000000#32
  | 85 => 0x3F6C835E#32
  | 86 => 0x3E8483EE#32
  | 87 => 0xBF7DCF55#32
  | 88 => 0xA50D3132#32
  | 89 => 0x3F7DCF55#32
  | 90 => 0xBE8483EE#32
  | 91 => 0xBF6C835E#32
  | 92 => 0x3F000000#32
  | 93 => 0x3F4B1934#32
  | 94 => 0xBF3504F3#32
  | 95 => 0xBF1BD7CA#32
  | 96 => 0x3F5DB3D7#32
  | 97 => 0x3EC3EF15#32
  | 98 => 0xBF7746EA#32
  | 99 => 0xBE05A8A8#32
  | 100 => 0x3F800000#32
  | 101 => 0xBE05A8A8#32
  | 102 => 0xBF7746EA#32
  | 103 => 0x3EC3EF15#32
  | 104 => 0x3F5DB3D7#32
  | 105 => 0xBF1BD7CA#32
  | 106 => 0xBF3504F3#32
  | 107 => 0x3F4B1934#32
  | 108 => 0x3F000000#32
  | 109 => 0xBF6C835E#32
  | 110 => 0xBE8483EE#32
  | 111 => 0x3F7DCF55#32
  | 112 => 0x80000000#32
  | 113 => 0xBF7DCF55#32
  | 114 => 0x3E8483EE#32
  | 115 => 0x3F6C835E#32
  | 116 => 0xBF000000#32
  | 117 => 0xBF4B1934#32
  | 118 => 0x3F3504F3#32
  | 119 => 0x3F1BD7CA#32
  | 120 => 0xBF5DB3D7#32
  | 121 => 0xBEC3EF15#32
  | 122 => 0x3F7746EA#32
  | 123 => 0x3E05A8A8#32
  | 124 => 0xBF800000#32
  | 125 => 0x3E05A8A8#32
  | 126 => 0x3F7746EA#32
  | 127 => 0xBEC3EF15#32
  | _ => 0#32

noncomputable abbrev lit1t0_176 (i : Nat) : BitVec 32 := match i % 128 with
  | 0 => 0xBF5DB3D7#32
  | 1 => 0x3F1BD7CA#32
  | 2 => 0x3F3504F3#32
  | 3 => 0xBF4B1934#32
  | 4 => 0xBF000000#32
  | 5 => 0x3F6C835E#32
  | 6 => 0x3E8483EE#32
  | 7 => 0xBF7DCF55#32
  | 8 => 0xA50D3132#32
  | 9 => 0x3F7DCF55#32
  | 10 => 0xBE8483EE#32
  | 11 => 0xBF6C835E#32
  | 12 => 0x3F000000#32
  | 13 => 0x3F4B1934#32
  | 14 => 0xBF3504F3#32
  | 15 => 0xBF1BD7CA#32
  | 16 => 0x3F5DB3D7#32
  | 17 => 0x3EC3EF15#32
  | 18 => 0xBF7746EA#32
  | 19 => 0xBE05A8A8#32
  | 20 => 0x3F800000#32
  | 21 => 0xBE05A8A8#32
  | 22 => 0xBF7746EA#32
  | 23 => 0x3EC3EF15#32
  | 24 => 0x3F5DB3D7#32
  | 25 => 0xBF1BD7CA#32
  | 26 => 0xBF3504F3#32
  | 27 => 0x3F4B1934#32
  | 28 => 0x3F000000#32
  | 29 => 0xBF6C835E#32
  | 30 => 0xBE8483EE#32
  | 31 => 0x3F7DCF55#32
  | 32 => 0x80000000#32
  | 33 => 0xBF7DCF55#32
  | 34 => 0x3E8483EE#32
  | 35 => 0x3F6C835E#32
  | 36 => 0xBF000000#32
  | 37 => 0xBF4B1934#32
  | 38 => 0x3F3504F3#32
  | 39 => 0x3F1BD7CA#32
  | 40 => 0xBF5DB3D7#32
  | 41 => 0xBEC3EF15#32
  | 42 => 0x3F7746EA#32
  | 43 => 0x3E05A8A8#32
  | 44 => 0xBF800000#32
  | 45 => 0x3E05A8A8#32
  | 46 => 0x3F7746EA#32
  | 47 => 0xBEC3EF15#32
  | 48 => 0xBF5DB3D7#32
  | 49 => 0x3F1BD7CA#32
  | 50 => 0x3F3504F3#32
  | 51 => 0xBF4B1934#32
  | 52 => 0xBF000000#32
  | 53 => 0x3F6C835E#32
  | 54 => 0x3E8483EE#32
  | 55 => 0xBF7DCF55#32
  | 56 => 0xA50D3132#32
  | 57 => 0x3F7DCF55#32
  | 58 => 0xBE8483EE#32
  | 59 => 0xBF6C835E#32
  | 60 => 0x3F000000#32
  | 61 => 0x3F4B1934#32
  | 62 => 0xBF3504F3#32
  | 63 => 0xBF1BD7CA#32
  | 64 => 0x3F5DB3D7#32
  | 65 => 0x3EC3EF15#32
  | 66 => 0xBF7746EA#32
  | 67 => 0xBE05A8A8#32
  | 68 => 0x3F800000#32
  | 69 => 0xBE05A8A8#32
  | 70 => 0xBF7746EA#32
  | 71 => 0x3EC3EF15#32
  | 72 => 0x3F5DB3D7#32
  | 73 => 0xBF1BD7CA#32
  | 74 => 0xBF3504F3#32
  | 75 => 0x3F4B1934#32
  | 76 => 0x3F000000#32
  | 77 => 0xBF6C835E#32
  | 78 => 0xBE8483EE#32
  | 79 => 0x3F7DCF55#32
  | 80 => 0x80000000#32
  | 81 => 0xBF7DCF55#32
  | 82 => 0x3E8483EE#32
  | 83 => 0x3F6C835E#32
  | 84 => 0xBF000000#32
  | 85 => 0xBF4B1934#32
  | 86 => 0x3F3504F3#32
  | 87 => 0x3F1BD7CA#32
  | 88 => 0xBF5DB3D7#32
  | 89 => 0xBEC3EF15#32
  | 90 => 0x3F7746EA#32
  | 91 => 0x3E05A8A8#32
  | 92 => 0xBF800000#32
  | 93 => 0x3E05A8A8#32
  | 94 => 0x3F7746EA#32
  | 95 => 0xBEC3EF15#32
  | 96 => 0xBF5DB3D7#32
  | 97 => 0x3F1BD7CA#32
  | 98 => 0x3F3504F3#32
  | 99 => 0xBF4B1934#32
  | 100 => 0xBF000000#32
  | 101 => 0x3F6C835E#32
  | 102 => 0x3E8483EE#32
  | 103 => 0xBF7DCF55#32
  | 104 => 0xA50D3132#32
  | 105 => 0x3F7DCF55#32
  | 106 => 0xBE8483EE#32
  | 107 => 0xBF6C835E#32
  | 108 => 0x3F000000#32
  | 109 => 0x3F4B1934#32
  | 110 => 0xBF3504F3#32
  | 111 => 0xBF1BD7CA#32
  | 112 => 0x3F5DB3D7#32
  | 113 => 0x3EC3EF15#32
  | 114 => 0xBF7746EA#32
  | 115 => 0xBE05A8A8#32
  | 116 => 0x3F800000#32
  | 117 => 0xBE05A8A8#32
  | 118 => 0xBF7746EA#32
  | 119 => 0x3EC3EF15#32
  | 120 => 0x3F5DB3D7#32
  | 121 => 0xBF1BD7CA#32
  | 122 => 0xBF3504F3#32
  | 123 => 0x3F4B1934#32
  | 124 => 0x3F000000#32
  | 125 => 0xBF6C835E#32
  | 126 => 0xBE8483EE#32
  | 127 => 0x3F7DCF55#32
  | _ => 0#32

noncomputable abbrev lit1t0_177 (i : Nat) : BitVec 32 := match i % 128 with
  | 0 => 0x80000000#32
  | 1 => 0xBF7DCF55#32
  | 2 => 0x3E8483EE#32
  | 3 => 0x3F6C835E#32
  | 4 => 0xBF000000#32
  | 5 => 0xBF4B1934#32
  | 6 => 0x3F3504F3#32
  | 7 => 0x3F1BD7CA#32
  | 8 => 0xBF5DB3D7#32
  | 9 => 0xBEC3EF15#32
  | 10 => 0x3F7746EA#32
  | 11 => 0x3E05A8A8#32
  | 12 => 0xBF800000#32
  | 13 => 0x3E05A8A8#32
  | 14 => 0x3F7746EA#32
  | 15 => 0xBEC3EF15#32
  | 16 => 0xBF5DB3D7#32
  | 17 => 0x3F1BD7CA#32
  | 18 => 0x3F3504F3#32
  | 19 => 0xBF4B1934#32
  | 20 => 0xBF000000#32
  | 21 => 0x3F6C835E#32
  | 22 => 0x3E8483EE#32
  | 23 => 0xBF7DCF55#32
  | 24 => 0xA50D3132#32
  | 25 => 0x3F7DCF55#32
  | 26 => 0xBE8483EE#32
  | 27 => 0xBF6C835E#32
  | 28 => 0x3F000000#32
  | 29 => 0x3F4B1934#32
  | 30 => 0xBF3504F3#32
  | 31 => 0xBF1BD7CA#32
  | 32 => 0x3F5DB3D7#32
  | 33 => 0x3EC3EF15#32
  | 34 => 0xBF7746EA#32
  | 35 => 0xBE05A8A8#32
  | 36 => 0x3F800000#32
  | 37 => 0xBE05A8A8#32
  | 38 => 0xBF7746EA#32
  | 39 => 0x3EC3EF15#32
  | 40 => 0x3F5DB3D7#32
  | 41 => 0xBF1BD7CA#32
  | 42 => 0xBF3504F3#32
  | 43 => 0x3F4B1934#32
  | 44 => 0x3F000000#32
  | 45 => 0xBF6C835E#32
  | 46 => 0xBE8483EE#32
  | 47 => 0x3F7DCF55#32
  | 48 => 0x80000000#32
  | 49 => 0xBF7DCF55#32
  | 50 => 0x3E8483EE#32
  | 51 => 0x3F6C835E#32
  | 52 => 0xBF000000#32
  | 53 => 0xBF4B1934#32
  | 54 => 0x3F3504F3#32
  | 55 => 0x3F1BD7CA#32
  | 56 => 0xBF5DB3D7#32
  | 57 => 0xBEC3EF15#32
  | 58 => 0x3F7746EA#32
  | 59 => 0x3E05A8A8#32
  | 60 => 0xBF800000#32
  | 61 => 0x3E05A8A8#32
  | 62 => 0x3F7746EA#32
  | 63 => 0xBEC3EF15#32
  | 64 => 0xBF5DB3D7#32
  | 65 => 0x3F1BD7CA#32
  | 66 => 0x3F3504F3#32
  | 67 => 0xBF4B1934#32
  | 68 => 0xBF000000#32
  | 69 => 0x3F6C835E#32
  | 70 => 0x3E8483EE#32
  | 71 => 0xBF7DCF55#32
  | 72 => 0xA50D3132#32
  | 73 => 0x3F7DCF55#32
  | 74 => 0xBE8483EE#32
  | 75 => 0xBF6C835E#32
  | 76 => 0x3F000000#32
  | 77 => 0x3F4B1934#32
  | 78 => 0xBF3504F3#32
  | 79 => 0xBF1BD7CA#32
  | 80 => 0x3F5DB3D7#32
  | 81 => 0x3EC3EF15#32
  | 82 => 0xBF7746EA#32
  | 83 => 0xBE05A8A8#32
  | 84 => 0x3F800000#32
  | 85 => 0xBE05A8A8#32
  | 86 => 0xBF7746EA#32
  | 87 => 0x3EC3EF15#32
  | 88 => 0x3F5DB3D7#32
  | 89 => 0xBF1BD7CA#32
  | 90 => 0xBF3504F3#32
  | 91 => 0x3F4B1934#32
  | 92 => 0x3F000000#32
  | 93 => 0xBF6C835E#32
  | 94 => 0xBE8483EE#32
  | 95 => 0x3F7DCF55#32
  | 96 => 0x80000000#32
  | 97 => 0xBF7D0543#32
  | 98 => 0x3E99F61C#32
  | 99 => 0x3F659974#32
  | 100 => 0xBF12D5E8#32
  | 101 => 0xBF38ECD8#32
  | 102 => 0x3F4B1934#32
  | 103 => 0x3EF64429#32
  | 104 => 0xBF708FB2#32
  | 105 => 0xBE47C5C2#32
  | 106 => 0x3F7FC1A0#32
  | 107 => 0xBDDEF599#32
  | 108 => 0xBF7746EA#32
  | 109 => 0x3ECE34D0#32
  | 110 => 0x3F57E880#32
  | 111 => 0xBF28CAE3#32
  | 112 => 0xBF248DBB#32
  | 113 => 0x3F5ADB81#32
  | 114 => 0x3EC3EF15#32
  | 115 => 0xBF78A9E0#32
  | 116 => 0xBDB27EB6#32
  | 117 => 0x3F7F73AF#32
  | 118 => 0xBE5DA259#32
  | 119 => 0xBF6E9811#32
  | 120 => 0x3F000000#32
  | 121 => 0x3F47A682#32
  | 122 => 0xBF3CBE35#32
  | 123 => 0xBF0E39DA#32
  | 124 => 0x3F6803CA#32
  | 125 => 0x3E8F45C0#32
  | 126 => 0xBF7DCF55#32
  | 127 => 0x3CB2B521#32
  | _ => 0#32

noncomputable abbrev lit1t0_178 (i : Nat) : BitVec 32 := match i % 128 with
  | 0 => 0x3F7C1C5C#32
  | 1 => 0xBEA493B7#32
  | 2 => 0xBF631324#32
  | 3 => 0x3F176012#32
  | 4 => 0x3F3504F3#32
  | 5 => 0xBF4E7327#32
  | 6 => 0xBEEC6A50#32
  | 7 => 0x3F726A03#32
  | 8 => 0x3E31D0D4#32
  | 9 => 0xBF7FF067#32
  | 10 => 0x3E05A8A8#32
  | 11 => 0x3F75C5D4#32
  | 12 => 0xBED8616C#32
  | 13 => 0xBF54DB31#32
  | 14 => 0x3F2CF37B#32
  | 15 => 0x3F203C85#32
  | 16 => 0xBF5DB3D7#32
  | 17 => 0xBEB9917B#32
  | 18 => 0x3F79EE89#32
  | 19 => 0x3D85F213#32
  | 20 => 0xBF7F069E#32
  | 21 => 0x3E7363EE#32
  | 22 => 0x3F6C835E#32
  | 23 => 0xBF04CE53#32
  | 24 => 0xBF441B7D#32
  | 25 => 0x3F407893#32
  | 26 => 0x3F098C78#32
  | 27 => 0xBF6A51DA#32
  | 28 => 0xBE8483EE#32
  | 29 => 0x3F7E7A7A#32
  | 30 => 0xBD32AA3E#32
  | 31 => 0xBF7B14BE#32
  | 32 => 0x3EAF1D44#32
  | 33 => 0x3F60712A#32
  | 34 => 0xBF1BD7CA#32
  | 35 => 0xBF310700#32
  | 36 => 0x3F51B3F3#32
  | 37 => 0x3EE273AA#32
  | 38 => 0xBF7426CB#32
  | 39 => 0xBE1BC63C#32
  | 40 => 0x3F800000#32
  | 41 => 0xBE1BC63C#32
  | 42 => 0xBF7426CB#32
  | 43 => 0x3EE273AA#32
  | 44 => 0x3F51B3F3#32
  | 45 => 0xBF310700#32
  | 46 => 0xBF1BD7CA#32
  | 47 => 0x3F60712A#32
  | 48 => 0x3EAF1D44#32
  | 49 => 0xBF7B14BE#32
  | 50 => 0xBD32AA3E#32
  | 51 => 0x3F7E7A7A#32
  | 52 => 0xBE8483EE#32
  | 53 => 0xBF6A51DA#32
  | 54 => 0x3F098C78#32
  | 55 => 0x3F407893#32
  | 56 => 0xBF441B7D#32
  | 57 => 0xBF04CE53#32
  | 58 => 0x3F6C835E#32
  | 59 => 0x3E7363EE#32
  | 60 => 0xBF7F069E#32
  | 61 => 0x3D85F213#32
  | 62 => 0x3F79EE89#32
  | 63 => 0xBEB9917B#32
  | 64 => 0xBF5DB3D7#32
  | 65 => 0x3F203C85#32
  | 66 => 0x3F2CF37B#32
  | 67 => 0xBF54DB31#32
  | 68 => 0xBED8616C#32
  | 69 => 0x3F75C5D4#32
  | 70 => 0x3E05A8A8#32
  | 71 => 0xBF7FF067#32
  | 72 => 0x3E31D0D4#32
  | 73 => 0x3F726A03#32
  | 74 => 0xBEEC6A50#32
  | 75 => 0xBF4E7327#32
  | 76 => 0x3F3504F3#32
  | 77 => 0x3F176012#32
  | 78 => 0xBF631324#32
  | 79 => 0xBEA493B7#32
  | 80 => 0x3F7C1C5C#32
  | 81 => 0x3CB2B521#32
  | 82 => 0xBF7DCF55#32
  | 83 => 0x3E8F45C0#32
  | 84 => 0x3F6803CA#32
  | 85 => 0xBF0E39DA#32
  | 86 => 0xBF3CBE35#32
  | 87 => 0x3F47A682#32
  | 88 => 0x3F000000#32
  | 89 => 0xBF6E9811#32
  | 90 => 0xBE5DA259#32
  | 91 => 0x3F7F73AF#32
  | 92 => 0xBDB27EB6#32
  | 93 => 0xBF78A9E0#32
  | 94 => 0x3EC3EF15#32
  | 95 => 0x3F5ADB81#32
  | 96 => 0xBF248DBB#32
  | 97 => 0xBF28CAE3#32
  | 98 => 0x3F57E880#32
  | 99 => 0x3ECE34D0#32
  | 100 => 0xBF7746EA#32
  | 101 => 0xBDDEF599#32
  | 102 => 0x3F7FC1A0#32
  | 103 => 0xBE47C5C2#32
  | 104 => 0xBF708FB2#32
  | 105 => 0x3EF64429#32
  | 106 => 0x3F4B1934#32
  | 107 => 0xBF38ECD8#32
  | 108 => 0xBF12D5E8#32
  | 109 => 0x3F659974#32
  | 110 => 0x3E99F61C#32
  | 111 => 0xBF7D0543#32
  | 112 => 0xA50D3132#32
  | 113 => 0x3F7D0543#32
  | 114 => 0xBE99F61C#32
  | 115 => 0xBF659974#32
  | 116 => 0x3F12D5E8#32
  | 117 => 0x3F38ECD8#32
  | 118 => 0xBF4B1934#32
  | 119 => 0xBEF64429#32
  | 120 => 0x3F708FB2#32
  | 121 => 0x3E47C5C2#32
  | 122 => 0xBF7FC1A0#32
  | 123 => 0x3DDEF599#32
  | 124 => 0x3F7746EA#32
  | 125 => 0xBECE34D0#32
  | 126 => 0xBF57E880#32
  | 127 => 0x3F28CAE3#32
  | _ => 0#32

noncomputable abbrev lit1t0_179 (i : Nat) : BitVec 32 := match i % 128 with
  | 0 => 0x3F248DBB#32
  | 1 => 0xBF5ADB81#32
  | 2 => 0xBEC3EF15#32
  | 3 => 0x3F78A9E0#32
  | 4 => 0x3DB27EB6#32
  | 5 => 0xBF7F73AF#32
  | 6 => 0x3E5DA259#32
  | 7 => 0x3F6E9811#32
  | 8 => 0xBF000000#32
  | 9 => 0xBF47A682#32
  | 10 => 0x3F3CBE35#32
  | 11 => 0x3F0E39DA#32
  | 12 => 0xBF6803CA#32
  | 13 => 0xBE8F45C0#32
  | 14 => 0x3F7DCF55#32
  | 15 => 0xBCB2B521#32
  | 16 => 0xBF7C1C5C#32
  | 17 => 0x3EA493B7#32
  | 18 => 0x3F631324#32
  | 19 => 0xBF176012#32
  | 20 => 0xBF3504F3#32
  | 21 => 0x3F4E7327#32
  | 22 => 0x3EEC6A50#32
  | 23 => 0xBF726A03#32
  | 24 => 0xBE31D0D4#32
  | 25 => 0x3F7FF067#32
  | 26 => 0xBE05A8A8#32
  | 27 => 0xBF75C5D4#32
  | 28 => 0x3ED8616C#32
  | 29 => 0x3F54DB31#32
  | 30 => 0xBF2CF37B#32
  | 31 => 0xBF203C85#32
  | 32 => 0x3F5DB3D7#32
  | 33 => 0x3EB9917B#32
  | 34 => 0xBF79EE89#32
  | 35 => 0xBD85F213#32
  | 36 => 0x3F7F069E#32
  | 37 => 0xBE7363EE#32
  | 38 => 0xBF6C835E#32
  | 39 => 0x3F04CE53#32
  | 40 => 0x3F441B7D#32
  | 41 => 0xBF407893#32
  | 42 => 0xBF098C78#32
  | 43 => 0x3F6A51DA#32
  | 44 => 0x3E8483EE#32
  | 45 => 0xBF7E7A7A#32
  | 46 => 0x3D32AA3E#32
  | 47 => 0x3F7B14BE#32
  | 48 => 0xBEAF1D44#32
  | 49 => 0xBF60712A#32
  | 50 => 0x3F1BD7CA#32
  | 51 => 0x3F310700#32
  | 52 => 0xBF51B3F3#32
  | 53 => 0xBEE273AA#32
  | 54 => 0x3F7426CB#32
  | 55 => 0x3E1BC63C#32
  | 56 => 0xBF800000#32
  | 57 => 0x3E1BC63C#32
  | 58 => 0x3F7426CB#32
  | 59 => 0xBEE273AA#32
  | 60 => 0xBF51B3F3#32
  | 61 => 0x3F310700#32
  | 62 => 0x3F1BD7CA#32
  | 63 => 0xBF60712A#32
  | 64 => 0xBEAF1D44#32
  | 65 => 0x3F7B14BE#32
  | 66 => 0x3D32AA3E#32
  | 67 => 0xBF7E7A7A#32
  | 68 => 0x3E8483EE#32
  | 69 => 0x3F6A51DA#32
  | 70 => 0xBF098C78#32
  | 71 => 0xBF407893#32
  | 72 => 0x3F441B7D#32
  | 73 => 0x3F04CE53#32
  | 74 => 0xBF6C835E#32
  | 75 => 0xBE7363EE#32
  | 76 => 0x3F7F069E#32
  | 77 => 0xBD85F213#32
  | 78 => 0xBF79EE89#32
  | 79 => 0x3EB9917B#32
  | 80 => 0x3F5DB3D7#32
  | 81 => 0xBF203C85#32
  | 82 => 0xBF2CF37B#32
  | 83 => 0x3F54DB31#32
  | 84 => 0x3ED8616C#32
  | 85 => 0xBF75C5D4#32
  | 86 => 0xBE05A8A8#32
  | 87 => 0x3F7FF067#32
  | 88 => 0xBE31D0D4#32
  | 89 => 0xBF726A03#32
  | 90 => 0x3EEC6A50#32
  | 91 => 0x3F4E7327#32
  | 92 => 0xBF3504F3#32
  | 93 => 0xBF176012#32
  | 94 => 0x3F631324#32
  | 95 => 0x3EA493B7#32
  | 96 => 0xBF7C1C5C#32
  | 97 => 0xBCB2B521#32
  | 98 => 0x3F7DCF55#32
  | 99 => 0xBE8F45C0#32
  | 100 => 0xBF6803CA#32
  | 101 => 0x3F0E39DA#32
  | 102 => 0x3F3CBE35#32
  | 103 => 0xBF47A682#32
  | 104 => 0xBF000000#32
  | 105 => 0x3F6E9811#32
  | 106 => 0x3E5DA259#32
  | 107 => 0xBF7F73AF#32
  | 108 => 0x3DB27EB6#32
  | 109 => 0x3F78A9E0#32
  | 110 => 0xBEC3EF15#32
  | 111 => 0xBF5ADB81#32
  | 112 => 0x3F248DBB#32
  | 113 => 0x3F28CAE3#32
  | 114 => 0xBF57E880#32
  | 115 => 0xBECE34D0#32
  | 116 => 0x3F7746EA#32
  | 117 => 0x3DDEF599#32
  | 118 => 0xBF7FC1A0#32
  | 119 => 0x3E47C5C2#32
  | 120 => 0x3F708FB2#32
  | 121 => 0xBEF64429#32
  | 122 => 0xBF4B1934#32
  | 123 => 0x3F38ECD8#32
  | 124 => 0x3F12D5E8#32
  | 125 => 0xBF659974#32
  | 126 => 0xBE99F61C#32
  | 127 => 0x3F7D0543#32
  | _ => 0#32

noncomputable abbrev lit1t0_180 (i : Nat) : BitVec 32 := match i % 128 with
  | 0 => 0x80000000#32
  | 1 => 0xBF7C1C5C#32
  | 2 => 0x3EAF1D44#32
  | 3 => 0x3F5DB3D7#32
  | 4 => 0xBF248DBB#32
  | 5 => 0xBF248DBB#32
  | 6 => 0x3F5DB3D7#32
  | 7 => 0x3EAF1D44#32
  | 8 => 0xBF7C1C5C#32
  | 9 => 0xA50D3132#32
  | 10 => 0x3F7C1C5C#32
  | 11 => 0xBEAF1D44#32
  | 12 => 0xBF5DB3D7#32
  | 13 => 0x3F248DBB#32
  | 14 => 0x3F248DBB#32
  | 15 => 0xBF5DB3D7#32
  | 16 => 0xBEAF1D44#32
  | 17 => 0x3F7C1C5C#32
  | 18 => 0x80000000#32
  | 19 => 0xBF7C1C5C#32
  | 20 => 0x3EAF1D44#32
  | 21 => 0x3F5DB3D7#32
  | 22 => 0xBF248DBB#32
  | 23 => 0xBF248DBB#32
  | 24 => 0x3F5DB3D7#32
  | 25 => 0x3EAF1D44#32
  | 26 => 0xBF7C1C5C#32
  | 27 => 0xA50D3132#32
  | 28 => 0x3F7C1C5C#32
  | 29 => 0xBEAF1D44#32
  | 30 => 0xBF5DB3D7#32
  | 31 => 0x3F248DBB#32
  | 32 => 0x3F248DBB#32
  | 33 => 0xBF5DB3D7#32
  | 34 => 0xBEAF1D44#32
  | 35 => 0x3F7C1C5C#32
  | 36 => 0x80000000#32
  | 37 => 0xBF7C1C5C#32
  | 38 => 0x3EAF1D44#32
  | 39 => 0x3F5DB3D7#32
  | 40 => 0xBF248DBB#32
  | 41 => 0xBF248DBB#32
  | 42 => 0x3F5DB3D7#32
  | 43 => 0x3EAF1D44#32
  | 44 => 0xBF7C1C5C#32
  | 45 => 0xA50D3132#32
  | 46 => 0x3F7C1C5C#32
  | 47 => 0xBEAF1D44#32
  | 48 => 0xBF5DB3D7#32
  | 49 => 0x3F248DBB#32
  | 50 => 0x3F248DBB#32
  | 51 => 0xBF5DB3D7#32
  | 52 => 0xBEAF1D44#32
  | 53 => 0x3F7C1C5C#32
  | 54 => 0x80000000#32
  | 55 => 0xBF7C1C5C#32
  | 56 => 0x3EAF1D44#32
  | 57 => 0x3F5DB3D7#32
  | 58 => 0xBF248DBB#32
  | 59 => 0xBF248DBB#32
  | 60 => 0x3F5DB3D7#32
  | 61 => 0x3EAF1D44#32
  | 62 => 0xBF7C1C5C#32
  | 63 => 0xA50D3132#32
  | 64 => 0x3F7C1C5C#32
  | 65 => 0xBEAF1D44#32
  | 66 => 0xBF5DB3D7#32
  | 67 => 0x3F248DBB#32
  | 68 => 0x3F248DBB#32
  | 69 => 0xBF5DB3D7#32
  | 70 => 0xBEAF1D44#32
  | 71 => 0x3F7C1C5C#32
  | 72 => 0x80000000#32
  | 73 => 0xBF7C1C5C#32
  | 74 => 0x3EAF1D44#32
  | 75 => 0x3F5DB3D7#32
  | 76 => 0xBF248DBB#32
  | 77 => 0xBF248DBB#32
  | 78 => 0x3F5DB3D7#32
  | 79 => 0x3EAF1D44#32
  | 80 => 0xBF7C1C5C#32
  | 81 => 0xA50D3132#32
  | 82 => 0x3F7C1C5C#32
  | 83 => 0xBEAF1D44#32
  | 84 => 0xBF5DB3D7#32
  | 85 => 0x3F248DBB#32
  | 86 => 0x3F248DBB#32
  | 87 => 0xBF5DB3D7#32
  | 88 => 0xBEAF1D44#32
  | 89 => 0x3F7C1C5C#32
  | 90 => 0x80000000#32
  | 91 => 0xBF7C1C5C#32
  | 92 => 0x3EAF1D44#32
  | 93 => 0x3F5DB3D7#32
  | 94 => 0xBF248DBB#32
  | 95 => 0xBF248DBB#32
  | 96 => 0x3F5DB3D7#32
  | 97 => 0x3EAF1D44#32
  | 98 => 0xBF7C1C5C#32
  | 99 => 0xA50D3132#32
  | 100 => 0x3F7C1C5C#32
  | 101 => 0xBEAF1D44#32
  | 102 => 0xBF5DB3D7#32
  | 103 => 0x3F248DBB#32
  | 104 => 0x3F248DBB#32
  | 105 => 0xBF5DB3D7#32
  | 106 => 0xBEAF1D44#32
  | 107 => 0x3F7C1C5C#32
  | 108 => 0x80000000#32
  | 109 => 0xBF7C1C5C#32
  | 110 => 0x3EAF1D44#32
  | 111 => 0x3F5DB3D7#32
  | 112 => 0xBF248DBB#32
  | 113 => 0xBF248DBB#32
  | 114 => 0x3F5DB3D7#32
  | 115 => 0x3EAF1D44#32
  | 116 => 0xBF7C1C5C#32
  | 117 => 0xA50D3132#32
  | 118 => 0x3F7C1C5C#32
  | 119 => 0xBEAF1D44#32
  | 120 => 0xBF5DB3D7#32
  | 121 => 0x3F248DBB#32
  | 122 => 0x3F248DBB#32
  | 123 => 0xBF5DB3D7#32
  | 124 => 0xBEAF1D44#32
  | 125 => 0x3F7C1C5C#32
  | 126 => 0x80000000#32
  | 127 => 0xBF7C1C5C#32
  | _ => 0#32

noncomputable abbrev lit1t0_181 (i : Nat) : BitVec 32 := match i % 128 with
  | 0 => 0x3EAF1D44#32
  | 1 => 0x3F5DB3D7#32
  | 2 => 0xBF248DBB#32
  | 3 => 0xBF248DBB#32
  | 4 => 0x3F5DB3D7#32
  | 5 => 0x3EAF1D44#32
  | 6 => 0xBF7C1C5C#32
  | 7 => 0xA50D3132#32
  | 8 => 0x3F7C1C5C#32
  | 9 => 0xBEAF1D44#32
  | 10 => 0xBF5DB3D7#32
  | 11 => 0x3F248DBB#32
  | 12 => 0x3F248DBB#32
  | 13 => 0xBF5DB3D7#32
  | 14 => 0xBEAF1D44#32
  | 15 => 0x3F7C1C5C#32
  | 16 => 0x80000000#32
  | 17 => 0xBF7C1C5C#32
  | 18 => 0x3EAF1D44#32
  | 19 => 0x3F5DB3D7#32
  | 20 => 0xBF248DBB#32
  | 21 => 0xBF248DBB#32
  | 22 => 0x3F5DB3D7#32
  | 23 => 0x3EAF1D44#32
  | 24 => 0xBF7C1C5C#32
  | 25 => 0xA50D3132#32
  | 26 => 0x3F7C1C5C#32
  | 27 => 0xBEAF1D44#32
  | 28 => 0xBF5DB3D7#32
  | 29 => 0x3F248DBB#32
  | 30 => 0x3F248DBB#32
  | 31 => 0xBF5DB3D7#32
  | 32 => 0xBEAF1D44#32
  | 33 => 0x3F7C1C5C#32
  | 34 => 0x80000000#32
  | 35 => 0xBF7C1C5C#32
  | 36 => 0x3EAF1D44#32
  | 37 => 0x3F5DB3D7#32
  | 38 => 0xBF248DBB#32
  | 39 => 0xBF248DBB#32
  | 40 => 0x3F5DB3D7#32
  | 41 => 0x3EAF1D44#32
  | 42 => 0xBF7C1C5C#32
  | 43 => 0xA50D3132#32
  | 44 => 0x3F7C1C5C#32
  | 45 => 0xBEAF1D44#32
  | 46 => 0xBF5DB3D7#32
  | 47 => 0x3F248DBB#32
  | 48 => 0x3F248DBB#32
  | 49 => 0xBF5DB3D7#32
  | 50 => 0xBEAF1D44#32
  | 51 => 0x3F7C1C5C#32
  | 52 => 0x80000000#32
  | 53 => 0xBF7C1C5C#32
  | 54 => 0x3EAF1D44#32
  | 55 => 0x3F5DB3D7#32
  | 56 => 0xBF248DBB#32
  | 57 => 0xBF248DBB#32
  | 58 => 0x3F5DB3D7#32
  | 59 => 0x3EAF1D44#32
  | 60 => 0xBF7C1C5C#32
  | 61 => 0xA50D3132#32
  | 62 => 0x3F7C1C5C#32
  | 63 => 0xBEAF1D44#32
  | 64 => 0xBF5DB3D7#32
  | 65 => 0x3F248DBB#32
  | 66 => 0x3F248DBB#32
  | 67 => 0xBF5DB3D7#32
  | 68 => 0xBEAF1D44#32
  | 69 => 0x3F7C1C5C#32
  | 70 => 0x80000000#32
  | 71 => 0xBF7C1C5C#32
  | 72 => 0x3EAF1D44#32
  | 73 => 0x3F5DB3D7#32
  | 74 => 0xBF248DBB#32
  | 75 => 0xBF248DBB#32
  | 76 => 0x3F5DB3D7#32
  | 77 => 0x3EAF1D44#32
  | 78 => 0xBF7C1C5C#32
  | 79 => 0xA50D3132#32
  | 80 => 0x3F7C1C5C#32
  | 81 => 0xBEAF1D44#32
  | 82 => 0xBF5DB3D7#32
  | 83 => 0x3F248DBB#32
  | 84 => 0x3F248DBB#32
  | 85 => 0xBF5DB3D7#32
  | 86 => 0xBEAF1D44#32
  | 87 => 0x3F7C1C5C#32
  | 88 => 0x80000000#32
  | 89 => 0xBF7C1C5C#32
  | 90 => 0x3EAF1D44#32
  | 91 => 0x3F5DB3D7#32
  | 92 => 0xBF248DBB#32
  | 93 => 0xBF248DBB#32
  | 94 => 0x3F5DB3D7#32
  | 95 => 0x3EAF1D44#32
  | 96 => 0xBF7C1C5C#32
  | 97 => 0xA50D3132#32
  | 98 => 0x3F7C1C5C#32
  | 99 => 0xBEAF1D44#32
  | 100 => 0xBF5DB3D7#32
  | 101 => 0x3F248DBB#32
  | 102 => 0x3F248DBB#32
  | 103 => 0xBF5DB3D7#32
  | 104 => 0xBEAF1D44#32
  | 105 => 0x3F7C1C5C#32
  | 106 => 0x80000000#32
  | 107 => 0xBF7C1C5C#32
  | 108 => 0x3EAF1D44#32
  | 109 => 0x3F5DB3D7#32
  | 110 => 0xBF248DBB#32
  | 111 => 0xBF248DBB#32
  | 112 => 0x3F5DB3D7#32
  | 113 => 0x3EAF1D44#32
  | 114 => 0xBF7C1C5C#32
  | 115 => 0xA50D3132#32
  | 116 => 0x3F7C1C5C#32
  | 117 => 0xBEAF1D44#32
  | 118 => 0xBF5DB3D7#32
  | 119 => 0x3F248DBB#32
  | 120 => 0x3F248DBB#32
  | 121 => 0xBF5DB3D7#32
  | 122 => 0xBEAF1D44#32
  | 123 => 0x3F7C1C5C#32
  | 124 => 0x80000000#32
  | 125 => 0xBF7C1C5C#32
  | 126 => 0x3EAF1D44#32
  | 127 => 0x3F5DB3D7#32
  | _ => 0#32

noncomputable abbrev lit1t0_182 (i : Nat) : BitVec 32 := match i % 128 with
  | 0 => 0xBF248DBB#32
  | 1 => 0xBF248DBB#32
  | 2 => 0x3F5DB3D7#32
  | 3 => 0x3EAF1D44#32
  | 4 => 0xBF7C1C5C#32
  | 5 => 0xA50D3132#32
  | 6 => 0x3F7C1C5C#32
  | 7 => 0xBEAF1D44#32
  | 8 => 0xBF5DB3D7#32
  | 9 => 0x3F248DBB#32
  | 10 => 0x3F248DBB#32
  | 11 => 0xBF5DB3D7#32
  | 12 => 0xBEAF1D44#32
  | 13 => 0x3F7C1C5C#32
  | 14 => 0x80000000#32
  | 15 => 0xBF7C1C5C#32
  | 16 => 0x3EAF1D44#32
  | 17 => 0x3F5DB3D7#32
  | 18 => 0xBF248DBB#32
  | 19 => 0xBF248DBB#32
  | 20 => 0x3F5DB3D7#32
  | 21 => 0x3EAF1D44#32
  | 22 => 0xBF7C1C5C#32
  | 23 => 0xA50D3132#32
  | 24 => 0x3F7C1C5C#32
  | 25 => 0xBEAF1D44#32
  | 26 => 0xBF5DB3D7#32
  | 27 => 0x3F248DBB#32
  | 28 => 0x3F248DBB#32
  | 29 => 0xBF5DB3D7#32
  | 30 => 0xBEAF1D44#32
  | 31 => 0x3F7C1C5C#32
  | 32 => 0x80000000#32
  | 33 => 0xBF7B14BE#32
  | 34 => 0x3EC3EF15#32
  | 35 => 0x3F54DB31#32
  | 36 => 0xBF3504F3#32
  | 37 => 0xBF0E39DA#32
  | 38 => 0x3F6C835E#32
  | 39 => 0x3E47C5C2#32
  | 40 => 0xBF800000#32
  | 41 => 0x3E47C5C2#32
  | 42 => 0x3F6C835E#32
  | 43 => 0xBF0E39DA#32
  | 44 => 0xBF3504F3#32
  | 45 => 0x3F54DB31#32
  | 46 => 0x3EC3EF15#32
  | 47 => 0xBF7B14BE#32
  | 48 => 0xA50D3132#32
  | 49 => 0x3F7B14BE#32
  | 50 => 0xBEC3EF15#32
  | 51 => 0xBF54DB31#32
  | 52 => 0x3F3504F3#32
  | 53 => 0x3F0E39DA#32
  | 54 => 0xBF6C835E#32
  | 55 => 0xBE47C5C2#32
  | 56 => 0x3F800000#32
  | 57 => 0xBE47C5C2#32
  | 58 => 0xBF6C835E#32
  | 59 => 0x3F0E39DA#32
  | 60 => 0x3F3504F3#32
  | 61 => 0xBF54DB31#32
  | 62 => 0xBEC3EF15#32
  | 63 => 0x3F7B14BE#32
  | 64 => 0x80000000#32
  | 65 => 0xBF7B14BE#32
  | 66 => 0x3EC3EF15#32
  | 67 => 0x3F54DB31#32
  | 68 => 0xBF3504F3#32
  | 69 => 0xBF0E39DA#32
  | 70 => 0x3F6C835E#32
  | 71 => 0x3E47C5C2#32
  | 72 => 0xBF800000#32
  | 73 => 0x3E47C5C2#32
  | 74 => 0x3F6C835E#32
  | 75 => 0xBF0E39DA#32
  | 76 => 0xBF3504F3#32
  | 77 => 0x3F54DB31#32
  | 78 => 0x3EC3EF15#32
  | 79 => 0xBF7B14BE#32
  | 80 => 0xA50D3132#32
  | 81 => 0x3F7B14BE#32
  | 82 => 0xBEC3EF15#32
  | 83 => 0xBF54DB31#32
  | 84 => 0x3F3504F3#32
  | 85 => 0x3F0E39DA#32
  | 86 => 0xBF6C835E#32
  | 87 => 0xBE47C5C2#32
  | 88 => 0x3F800000#32
  | 89 => 0xBE47C5C2#32
  | 90 => 0xBF6C835E#32
  | 91 => 0x3F0E39DA#32
  | 92 => 0x3F3504F3#32
  | 93 => 0xBF54DB31#32
  | 94 => 0xBEC3EF15#32
  | 95 => 0x3F7B14BE#32
  | 96 => 0x80000000#32
  | 97 => 0xBF7B14BE#32
  | 98 => 0x3EC3EF15#32
  | 99 => 0x3F54DB31#32
  | 100 => 0xBF3504F3#32
  | 101 => 0xBF0E39DA#32
  | 102 => 0x3F6C835E#32
  | 103 => 0x3E47C5C2#32
  | 104 => 0xBF800000#32
  | 105 => 0x3E47C5C2#32
  | 106 => 0x3F6C835E#32
  | 107 => 0xBF0E39DA#32
  | 108 => 0xBF3504F3#32
  | 109 => 0x3F54DB31#32
  | 110 => 0x3EC3EF15#32
  | 111 => 0xBF7B14BE#32
  | 112 => 0xA50D3132#32
  | 113 => 0x3F7B14BE#32
  | 114 => 0xBEC3EF15#32
  | 115 => 0xBF54DB31#32
  | 116 => 0x3F3504F3#32
  | 117 => 0x3F0E39DA#32
  | 118 => 0xBF6C835E#32
  | 119 => 0xBE47C5C2#32
  | 120 => 0x3F800000#32
  | 121 => 0xBE47C5C2#32
  | 122 => 0xBF6C835E#32
  | 123 => 0x3F0E39DA#32
  | 124 => 0x3F3504F3#32
  | 125 => 0xBF54DB31#32
  | 126 => 0xBEC3EF15#32
  | 127 => 0x3F7B14BE#32
  | _ => 0#32

noncomputable abbrev lit1t0_183 (i : Nat) : BitVec 32 := match i % 128 with
  | 0 => 0x80000000#32
  | 1 => 0xBF7B14BE#32
  | 2 => 0x3EC3EF15#32
  | 3 => 0x3F54DB31#32
  | 4 => 0xBF3504F3#32
  | 5 => 0xBF0E39DA#32
  | 6 => 0x3F6C835E#32
  | 7 => 0x3E47C5C2#32
  | 8 => 0xBF800000#32
  | 9 => 0x3E47C5C2#32
  | 10 => 0x3F6C835E#32
  | 11 => 0xBF0E39DA#32
  | 12 => 0xBF3504F3#32
  | 13 => 0x3F54DB31#32
  | 14 => 0x3EC3EF15#32
  | 15 => 0xBF7B14BE#32
  | 16 => 0xA50D3132#32
  | 17 => 0x3F7B14BE#32
  | 18 => 0xBEC3EF15#32
  | 19 => 0xBF54DB31#32
  | 20 => 0x3F3504F3#32
  | 21 => 0x3F0E39DA#32
  | 22 => 0xBF6C835E#32
  | 23 => 0xBE47C5C2#32
  | 24 => 0x3F800000#32
  | 25 => 0xBE47C5C2#32
  | 26 => 0xBF6C835E#32
  | 27 => 0x3F0E39DA#32
  | 28 => 0x3F3504F3#32
  | 29 => 0xBF54DB31#32
  | 30 => 0xBEC3EF15#32
  | 31 => 0x3F7B14BE#32
  | 32 => 0x80000000#32
  | 33 => 0xBF7B14BE#32
  | 34 => 0x3EC3EF15#32
  | 35 => 0x3F54DB31#32
  | 36 => 0xBF3504F3#32
  | 37 => 0xBF0E39DA#32
  | 38 => 0x3F6C835E#32
  | 39 => 0x3E47C5C2#32
  | 40 => 0xBF800000#32
  | 41 => 0x3E47C5C2#32
  | 42 => 0x3F6C835E#32
  | 43 => 0xBF0E39DA#32
  | 44 => 0xBF3504F3#32
  | 45 => 0x3F54DB31#32
  | 46 => 0x3EC3EF15#32
  | 47 => 0xBF7B14BE#32
  | 48 => 0xA50D3132#32
  | 49 => 0x3F7B14BE#32
  | 50 => 0xBEC3EF15#32
  | 51 => 0xBF54DB31#32
  | 52 => 0x3F3504F3#32
  | 53 => 0x3F0E39DA#32
  | 54 => 0xBF6C835E#32
  | 55 => 0xBE47C5C2#32
  | 56 => 0x3F800000#32
  | 57 => 0xBE47C5C2#32
  | 58 => 0xBF6C835E#32
  | 59 => 0x3F0E39DA#32
  | 60 => 0x3F3504F3#32
  | 61 => 0xBF54DB31#32
  | 62 => 0xBEC3EF15#32
  | 63 => 0x3F7B14BE#32
  | 64 => 0x80000000#32
  | 65 => 0xBF7B14BE#32
  | 66 => 0x3EC3EF15#32
  | 67 => 0x3F54DB31#32
  | 68 => 0xBF3504F3#32
  | 69 => 0xBF0E39DA#32
  | 70 => 0x3F6C835E#32
  | 71 => 0x3E47C5C2#32
  | 72 => 0xBF800000#32
  | 73 => 0x3E47C5C2#32
  | 74 => 0x3F6C835E#32
  | 75 => 0xBF0E39DA#32
  | 76 => 0xBF3504F3#32
  | 77 => 0x3F54DB31#32
  | 78 => 0x3EC3EF15#32
  | 79 => 0xBF7B14BE#32
  | 80 => 0xA50D3132#32
  | 81 => 0x3F7B14BE#32
  | 82 => 0xBEC3EF15#32
  | 83 => 0xBF54DB31#32
  | 84 => 0x3F3504F3#32
  | 85 => 0x3F0E39DA#32
  | 86 => 0xBF6C835E#32
  | 87 => 0xBE47C5C2#32
  | 88 => 0x3F800000#32
  | 89 => 0xBE47C5C2#32
  | 90 => 0xBF6C835E#32
  | 91 => 0x3F0E39DA#32
  | 92 => 0x3F3504F3#32
  | 93 => 0xBF54DB31#32
  | 94 => 0xBEC3EF15#32
  | 95 => 0x3F7B14BE#32
  | 96 => 0x80000000#32
  | 97 => 0xBF7B14BE#32
  | 98 => 0x3EC3EF15#32
  | 99 => 0x3F54DB31#32
  | 100 => 0xBF3504F3#32
  | 101 => 0xBF0E39DA#32
  | 102 => 0x3F6C835E#32
  | 103 => 0x3E47C5C2#32
  | 104 => 0xBF800000#32
  | 105 => 0x3E47C5C2#32
  | 106 => 0x3F6C835E#32
  | 107 => 0xBF0E39DA#32
  | 108 => 0xBF3504F3#32
  | 109 => 0x3F54DB31#32
  | 110 => 0x3EC3EF15#32
  | 111 => 0xBF7B14BE#32
  | 112 => 0xA50D3132#32
  | 113 => 0x3F7B14BE#32
  | 114 => 0xBEC3EF15#32
  | 115 => 0xBF54DB31#32
  | 116 => 0x3F3504F3#32
  | 117 => 0x3F0E39DA#32
  | 118 => 0xBF6C835E#32
  | 119 => 0xBE47C5C2#32
  | 120 => 0x3F800000#32
  | 121 => 0xBE47C5C2#32
  | 122 => 0xBF6C835E#32
  | 123 => 0x3F0E39DA#32
  | 124 => 0x3F3504F3#32
  | 125 => 0xBF54DB31#32
  | 126 => 0xBEC3EF15#32
  | 127 => 0x3F7B14BE#32
  | _ => 0#32

noncomputable abbrev lit1t0_184 (i : Nat) : BitVec 32 := match i % 128 with
  | 0 => 0x80000000#32
  | 1 => 0xBF7B14BE#32
  | 2 => 0x3EC3EF15#32
  | 3 => 0x3F54DB31#32
  | 4 => 0xBF3504F3#32
  | 5 => 0xBF0E39DA#32
  | 6 => 0x3F6C835E#32
  | 7 => 0x3E47C5C2#32
  | 8 => 0xBF800000#32
  | 9 => 0x3E47C5C2#32
  | 10 => 0x3F6C835E#32
  | 11 => 0xBF0E39DA#32
  | 12 => 0xBF3504F3#32
  | 13 => 0x3F54DB31#32
  | 14 => 0x3EC3EF15#32
  | 15 => 0xBF7B14BE#32
  | 16 => 0xA50D3132#32
  | 17 => 0x3F7B14BE#32
  | 18 => 0xBEC3EF15#32
  | 19 => 0xBF54DB31#32
  | 20 => 0x3F3504F3#32
  | 21 => 0x3F0E39DA#32
  | 22 => 0xBF6C835E#32
  | 23 => 0xBE47C5C2#32
  | 24 => 0x3F800000#32
  | 25 => 0xBE47C5C2#32
  | 26 => 0xBF6C835E#32
  | 27 => 0x3F0E39DA#32
  | 28 => 0x3F3504F3#32
  | 29 => 0xBF54DB31#32
  | 30 => 0xBEC3EF15#32
  | 31 => 0x3F7B14BE#32
  | 32 => 0x80000000#32
  | 33 => 0xBF7B14BE#32
  | 34 => 0x3EC3EF15#32
  | 35 => 0x3F54DB31#32
  | 36 => 0xBF3504F3#32
  | 37 => 0xBF0E39DA#32
  | 38 => 0x3F6C835E#32
  | 39 => 0x3E47C5C2#32
  | 40 => 0xBF800000#32
  | 41 => 0x3E47C5C2#32
  | 42 => 0x3F6C835E#32
  | 43 => 0xBF0E39DA#32
  | 44 => 0xBF3504F3#32
  | 45 => 0x3F54DB31#32
  | 46 => 0x3EC3EF15#32
  | 47 => 0xBF7B14BE#32
  | 48 => 0xA50D3132#32
  | 49 => 0x3F7B14BE#32
  | 50 => 0xBEC3EF15#32
  | 51 => 0xBF54DB31#32
  | 52 => 0x3F3504F3#32
  | 53 => 0x3F0E39DA#32
  | 54 => 0xBF6C835E#32
  | 55 => 0xBE47C5C2#32
  | 56 => 0x3F800000#32
  | 57 => 0xBE47C5C2#32
  | 58 => 0xBF6C835E#32
  | 59 => 0x3F0E39DA#32
  | 60 => 0x3F3504F3#32
  | 61 => 0xBF54DB31#32
  | 62 => 0xBEC3EF15#32
  | 63 => 0x3F7B14BE#32
  | 64 => 0x80000000#32
  | 65 => 0xBF79EE89#32
  | 66 => 0x3ED8616C#32
  | 67 => 0x3F4B1934#32
  | 68 => 0xBF441B7D#32
  | 69 => 0xBEEC6A50#32
  | 70 => 0x3F7746EA#32
  | 71 => 0x3D32AA3E#32
  | 72 => 0xBF7C1C5C#32
  | 73 => 0x3EC3EF15#32
  | 74 => 0x3F51B3F3#32
  | 75 => 0xBF3CBE35#32
  | 76 => 0xBF000000#32
  | 77 => 0x3F7426CB#32
  | 78 => 0x3DB27EB6#32
  | 79 => 0xBF7DCF55#32
  | 80 => 0x3EAF1D44#32
  | 81 => 0x3F57E880#32
  | 82 => 0xBF3504F3#32
  | 83 => 0xBF098C78#32
  | 84 => 0x3F708FB2#32
  | 85 => 0x3E05A8A8#32
  | 86 => 0xBF7F069E#32
  | 87 => 0x3E99F61C#32
  | 88 => 0x3F5DB3D7#32
  | 89 => 0xBF2CF37B#32
  | 90 => 0xBF12D5E8#32
  | 91 => 0x3F6C835E#32
  | 92 => 0x3E31D0D4#32
  | 93 => 0xBF7FC1A0#32
  | 94 => 0x3E8483EE#32
  | 95 => 0x3F631324#32
  | 96 => 0xBF248DBB#32
  | 97 => 0xBF1BD7CA#32
  | 98 => 0x3F6803CA#32
  | 99 => 0x3E5DA259#32
  | 100 => 0xBF800000#32
  | 101 => 0x3E5DA259#32
  | 102 => 0x3F6803CA#32
  | 103 => 0xBF1BD7CA#32
  | 104 => 0xBF248DBB#32
  | 105 => 0x3F631324#32
  | 106 => 0x3E8483EE#32
  | 107 => 0xBF7FC1A0#32
  | 108 => 0x3E31D0D4#32
  | 109 => 0x3F6C835E#32
  | 110 => 0xBF12D5E8#32
  | 111 => 0xBF2CF37B#32
  | 112 => 0x3F5DB3D7#32
  | 113 => 0x3E99F61C#32
  | 114 => 0xBF7F069E#32
  | 115 => 0x3E05A8A8#32
  | 116 => 0x3F708FB2#32
  | 117 => 0xBF098C78#32
  | 118 => 0xBF3504F3#32
  | 119 => 0x3F57E880#32
  | 120 => 0x3EAF1D44#32
  | 121 => 0xBF7DCF55#32
  | 122 => 0x3DB27EB6#32
  | 123 => 0x3F7426CB#32
  | 124 => 0xBF000000#32
  | 125 => 0xBF3CBE35#32
  | 126 => 0x3F51B3F3#32
  | 127 => 0x3EC3EF15#32
  | _ => 0#32

noncomputable abbrev lit1t0_185 (i : Nat) : BitVec 32 := match i % 128 with
  | 0 => 0xBF7C1C5C#32
  | 1 => 0x3D32AA3E#32
  | 2 => 0x3F7746EA#32
  | 3 => 0xBEEC6A50#32
  | 4 => 0xBF441B7D#32
  | 5 => 0x3F4B1934#32
  | 6 => 0x3ED8616C#32
  | 7 => 0xBF79EE89#32
  | 8 => 0xA50D3132#32
  | 9 => 0x3F79EE89#32
  | 10 => 0xBED8616C#32
  | 11 => 0xBF4B1934#32
  | 12 => 0x3F441B7D#32
  | 13 => 0x3EEC6A50#32
  | 14 => 0xBF7746EA#32
  | 15 => 0xBD32AA3E#32
  | 16 => 0x3F7C1C5C#32
  | 17 => 0xBEC3EF15#32
  | 18 => 0xBF51B3F3#32
  | 19 => 0x3F3CBE35#32
  | 20 => 0x3F000000#32
  | 21 => 0xBF7426CB#32
  | 22 => 0xBDB27EB6#32
  | 23 => 0x3F7DCF55#32
  | 24 => 0xBEAF1D44#32
  | 25 => 0xBF57E880#32
  | 26 => 0x3F3504F3#32
  | 27 => 0x3F098C78#32
  | 28 => 0xBF708FB2#32
  | 29 => 0xBE05A8A8#32
  | 30 => 0x3F7F069E#32
  | 31 => 0xBE99F61C#32
  | 32 => 0xBF5DB3D7#32
  | 33 => 0x3F2CF37B#32
  | 34 => 0x3F12D5E8#32
  | 35 => 0xBF6C835E#32
  | 36 => 0xBE31D0D4#32
  | 37 => 0x3F7FC1A0#32
  | 38 => 0xBE8483EE#32
  | 39 => 0xBF631324#32
  | 40 => 0x3F248DBB#32
  | 41 => 0x3F1BD7CA#32
  | 42 => 0xBF6803CA#32
  | 43 => 0xBE5DA259#32
  | 44 => 0x3F800000#32
  | 45 => 0xBE5DA259#32
  | 46 => 0xBF6803CA#32
  | 47 => 0x3F1BD7CA#32
  | 48 => 0x3F248DBB#32
  | 49 => 0xBF631324#32
  | 50 => 0xBE8483EE#32
  | 51 => 0x3F7FC1A0#32
  | 52 => 0xBE31D0D4#32
  | 53 => 0xBF6C835E#32
  | 54 => 0x3F12D5E8#32
  | 55 => 0x3F2CF37B#32
  | 56 => 0xBF5DB3D7#32
  | 57 => 0xBE99F61C#32
  | 58 => 0x3F7F069E#32
  | 59 => 0xBE05A8A8#32
  | 60 => 0xBF708FB2#32
  | 61 => 0x3F098C78#32
  | 62 => 0x3F3504F3#32
  | 63 => 0xBF57E880#32
  | 64 => 0xBEAF1D44#32
  | 65 => 0x3F7DCF55#32
  | 66 => 0xBDB27EB6#32
  | 67 => 0xBF7426CB#32
  | 68 => 0x3F000000#32
  | 69 => 0x3F3CBE35#32
  | 70 => 0xBF51B3F3#32
  | 71 => 0xBEC3EF15#32
  | 72 => 0x3F7C1C5C#32
  | 73 => 0xBD32AA3E#32
  | 74 => 0xBF7746EA#32
  | 75 => 0x3EEC6A50#32
  | 76 => 0x3F441B7D#32
  | 77 => 0xBF4B1934#32
  | 78 => 0xBED8616C#32
  | 79 => 0x3F79EE89#32
  | 80 => 0x80000000#32
  | 81 => 0xBF79EE89#32
  | 82 => 0x3ED8616C#32
  | 83 => 0x3F4B1934#32
  | 84 => 0xBF441B7D#32
  | 85 => 0xBEEC6A50#32
  | 86 => 0x3F7746EA#32
  | 87 => 0x3D32AA3E#32
  | 88 => 0xBF7C1C5C#32
  | 89 => 0x3EC3EF15#32
  | 90 => 0x3F51B3F3#32
  | 91 => 0xBF3CBE35#32
  | 92 => 0xBF000000#32
  | 93 => 0x3F7426CB#32
  | 94 => 0x3DB27EB6#32
  | 95 => 0xBF7DCF55#32
  | 96 => 0x3EAF1D44#32
  | 97 => 0x3F57E880#32
  | 98 => 0xBF3504F3#32
  | 99 => 0xBF098C78#32
  | 100 => 0x3F708FB2#32
  | 101 => 0x3E05A8A8#32
  | 102 => 0xBF7F069E#32
  | 103 => 0x3E99F61C#32
  | 104 => 0x3F5DB3D7#32
  | 105 => 0xBF2CF37B#32
  | 106 => 0xBF12D5E8#32
  | 107 => 0x3F6C835E#32
  | 108 => 0x3E31D0D4#32
  | 109 => 0xBF7FC1A0#32
  | 110 => 0x3E8483EE#32
  | 111 => 0x3F631324#32
  | 112 => 0xBF248DBB#32
  | 113 => 0xBF1BD7CA#32
  | 114 => 0x3F6803CA#32
  | 115 => 0x3E5DA259#32
  | 116 => 0xBF800000#32
  | 117 => 0x3E5DA259#32
  | 118 => 0x3F6803CA#32
  | 119 => 0xBF1BD7CA#32
  | 120 => 0xBF248DBB#32
  | 121 => 0x3F631324#32
  | 122 => 0x3E8483EE#32
  | 123 => 0xBF7FC1A0#32
  | 124 => 0x3E31D0D4#32
  | 125 => 0x3F6C835E#32
  | 126 => 0xBF12D5E8#32
  | 127 => 0xBF2CF37B#32
  | _ => 0#32

noncomputable abbrev lit1t0_186 (i : Nat) : BitVec 32 := match i % 128 with
  | 0 => 0x3F5DB3D7#32
  | 1 => 0x3E99F61C#32
  | 2 => 0xBF7F069E#32
  | 3 => 0x3E05A8A8#32
  | 4 => 0x3F708FB2#32
  | 5 => 0xBF098C78#32
  | 6 => 0xBF3504F3#32
  | 7 => 0x3F57E880#32
  | 8 => 0x3EAF1D44#32
  | 9 => 0xBF7DCF55#32
  | 10 => 0x3DB27EB6#32
  | 11 => 0x3F7426CB#32
  | 12 => 0xBF000000#32
  | 13 => 0xBF3CBE35#32
  | 14 => 0x3F51B3F3#32
  | 15 => 0x3EC3EF15#32
  | 16 => 0xBF7C1C5C#32
  | 17 => 0x3D32AA3E#32
  | 18 => 0x3F7746EA#32
  | 19 => 0xBEEC6A50#32
  | 20 => 0xBF441B7D#32
  | 21 => 0x3F4B1934#32
  | 22 => 0x3ED8616C#32
  | 23 => 0xBF79EE89#32
  | 24 => 0xA50D3132#32
  | 25 => 0x3F79EE89#32
  | 26 => 0xBED8616C#32
  | 27 => 0xBF4B1934#32
  | 28 => 0x3F441B7D#32
  | 29 => 0x3EEC6A50#32
  | 30 => 0xBF7746EA#32
  | 31 => 0xBD32AA3E#32
  | 32 => 0x3F7C1C5C#32
  | 33 => 0xBEC3EF15#32
  | 34 => 0xBF51B3F3#32
  | 35 => 0x3F3CBE35#32
  | 36 => 0x3F000000#32
  | 37 => 0xBF7426CB#32
  | 38 => 0xBDB27EB6#32
  | 39 => 0x3F7DCF55#32
  | 40 => 0xBEAF1D44#32
  | 41 => 0xBF57E880#32
  | 42 => 0x3F3504F3#32
  | 43 => 0x3F098C78#32
  | 44 => 0xBF708FB2#32
  | 45 => 0xBE05A8A8#32
  | 46 => 0x3F7F069E#32
  | 47 => 0xBE99F61C#32
  | 48 => 0xBF5DB3D7#32
  | 49 => 0x3F2CF37B#32
  | 50 => 0x3F12D5E8#32
  | 51 => 0xBF6C835E#32
  | 52 => 0xBE31D0D4#32
  | 53 => 0x3F7FC1A0#32
  | 54 => 0xBE8483EE#32
  | 55 => 0xBF631324#32
  | 56 => 0x3F248DBB#32
  | 57 => 0x3F1BD7CA#32
  | 58 => 0xBF6803CA#32
  | 59 => 0xBE5DA259#32
  | 60 => 0x3F800000#32
  | 61 => 0xBE5DA259#32
  | 62 => 0xBF6803CA#32
  | 63 => 0x3F1BD7CA#32
  | 64 => 0x3F248DBB#32
  | 65 => 0xBF631324#32
  | 66 => 0xBE8483EE#32
  | 67 => 0x3F7FC1A0#32
  | 68 => 0xBE31D0D4#32
  | 69 => 0xBF6C835E#32
  | 70 => 0x3F12D5E8#32
  | 71 => 0x3F2CF37B#32
  | 72 => 0xBF5DB3D7#32
  | 73 => 0xBE99F61C#32
  | 74 => 0x3F7F069E#32
  | 75 => 0xBE05A8A8#32
  | 76 => 0xBF708FB2#32
  | 77 => 0x3F098C78#32
  | 78 => 0x3F3504F3#32
  | 79 => 0xBF57E880#32
  | 80 => 0xBEAF1D44#32
  | 81 => 0x3F7DCF55#32
  | 82 => 0xBDB27EB6#32
  | 83 => 0xBF7426CB#32
  | 84 => 0x3F000000#32
  | 85 => 0x3F3CBE35#32
  | 86 => 0xBF51B3F3#32
  | 87 => 0xBEC3EF15#32
  | 88 => 0x3F7C1C5C#32
  | 89 => 0xBD32AA3E#32
  | 90 => 0xBF7746EA#32
  | 91 => 0x3EEC6A50#32
  | 92 => 0x3F441B7D#32
  | 93 => 0xBF4B1934#32
  | 94 => 0xBED8616C#32
  | 95 => 0x3F79EE89#32
  | 96 => 0x80000000#32
  | 97 => 0xBF78A9E0#32
  | 98 => 0x3EEC6A50#32
  | 99 => 0x3F407893#32
  | 100 => 0xBF51B3F3#32
  | 101 => 0xBEB9917B#32
  | 102 => 0x3F7DCF55#32
  | 103 => 0xBDDEF599#32
  | 104 => 0xBF708FB2#32
  | 105 => 0x3F0E39DA#32
  | 106 => 0x3F2CF37B#32
  | 107 => 0xBF60712A#32
  | 108 => 0xBE8483EE#32
  | 109 => 0x3F7FF067#32
  | 110 => 0xBE5DA259#32
  | 111 => 0xBF659974#32
  | 112 => 0x3F248DBB#32
  | 113 => 0x3F176012#32
  | 114 => 0xBF6C835E#32
  | 115 => 0xBE1BC63C#32
  | 116 => 0x3F7F069E#32
  | 117 => 0xBEA493B7#32
  | 118 => 0xBF57E880#32
  | 119 => 0x3F38ECD8#32
  | 120 => 0x3F000000#32
  | 121 => 0xBF75C5D4#32
  | 122 => 0xBD32AA3E#32
  | 123 => 0x3F7B14BE#32
  | 124 => 0xBED8616C#32
  | 125 => 0xBF47A682#32
  | 126 => 0x3F4B1934#32
  | 127 => 0x3ECE34D0#32
  | _ => 0#32

noncomputable abbrev lit1t0_187 (i : Nat) : BitVec 32 := match i % 128 with
  | 0 => 0xBF7C1C5C#32
  | 1 => 0x3D85F213#32
  | 2 => 0x3F7426CB#32
  | 3 => 0xBF04CE53#32
  | 4 => 0xBF3504F3#32
  | 5 => 0x3F5ADB81#32
  | 6 => 0x3E99F61C#32
  | 7 => 0xBF7F73AF#32
  | 8 => 0x3E31D0D4#32
  | 9 => 0x3F6A51DA#32
  | 10 => 0xBF1BD7CA#32
  | 11 => 0xBF203C85#32
  | 12 => 0x3F6803CA#32
  | 13 => 0x3E47C5C2#32
  | 14 => 0xBF7FC1A0#32
  | 15 => 0x3E8F45C0#32
  | 16 => 0x3F5DB3D7#32
  | 17 => 0xBF310700#32
  | 18 => 0xBF098C78#32
  | 19 => 0x3F726A03#32
  | 20 => 0x3DB27EB6#32
  | 21 => 0xBF7D0543#32
  | 22 => 0x3EC3EF15#32
  | 23 => 0x3F4E7327#32
  | 24 => 0xBF441B7D#32
  | 25 => 0xBEE273AA#32
  | 26 => 0x3F79EE89#32
  | 27 => 0xBCB2B521#32
  | 28 => 0xBF7746EA#32
  | 29 => 0x3EF64429#32
  | 30 => 0x3F3CBE35#32
  | 31 => 0xBF54DB31#32
  | 32 => 0xBEAF1D44#32
  | 33 => 0x3F7E7A7A#32
  | 34 => 0xBE05A8A8#32
  | 35 => 0xBF6E9811#32
  | 36 => 0x3F12D5E8#32
  | 37 => 0x3F28CAE3#32
  | 38 => 0xBF631324#32
  | 39 => 0xBE7363EE#32
  | 40 => 0x3F800000#32
  | 41 => 0xBE7363EE#32
  | 42 => 0xBF631324#32
  | 43 => 0x3F28CAE3#32
  | 44 => 0x3F12D5E8#32
  | 45 => 0xBF6E9811#32
  | 46 => 0xBE05A8A8#32
  | 47 => 0x3F7E7A7A#32
  | 48 => 0xBEAF1D44#32
  | 49 => 0xBF54DB31#32
  | 50 => 0x3F3CBE35#32
  | 51 => 0x3EF64429#32
  | 52 => 0xBF7746EA#32
  | 53 => 0xBCB2B521#32
  | 54 => 0x3F79EE89#32
  | 55 => 0xBEE273AA#32
  | 56 => 0xBF441B7D#32
  | 57 => 0x3F4E7327#32
  | 58 => 0x3EC3EF15#32
  | 59 => 0xBF7D0543#32
  | 60 => 0x3DB27EB6#32
  | 61 => 0x3F726A03#32
  | 62 => 0xBF098C78#32
  | 63 => 0xBF310700#32
  | 64 => 0x3F5DB3D7#32
  | 65 => 0x3E8F45C0#32
  | 66 => 0xBF7FC1A0#32
  | 67 => 0x3E47C5C2#32
  | 68 => 0x3F6803CA#32
  | 69 => 0xBF203C85#32
  | 70 => 0xBF1BD7CA#32
  | 71 => 0x3F6A51DA#32
  | 72 => 0x3E31D0D4#32
  | 73 => 0xBF7F73AF#32
  | 74 => 0x3E99F61C#32
  | 75 => 0x3F5ADB81#32
  | 76 => 0xBF3504F3#32
  | 77 => 0xBF04CE53#32
  | 78 => 0x3F7426CB#32
  | 79 => 0x3D85F213#32
  | 80 => 0xBF7C1C5C#32
  | 81 => 0x3ECE34D0#32
  | 82 => 0x3F4B1934#32
  | 83 => 0xBF47A682#32
  | 84 => 0xBED8616C#32
  | 85 => 0x3F7B14BE#32
  | 86 => 0xBD32AA3E#32
  | 87 => 0xBF75C5D4#32
  | 88 => 0x3F000000#32
  | 89 => 0x3F38ECD8#32
  | 90 => 0xBF57E880#32
  | 91 => 0xBEA493B7#32
  | 92 => 0x3F7F069E#32
  | 93 => 0xBE1BC63C#32
  | 94 => 0xBF6C835E#32
  | 95 => 0x3F176012#32
  | 96 => 0x3F248DBB#32
  | 97 => 0xBF659974#32
  | 98 => 0xBE5DA259#32
  | 99 => 0x3F7FF067#32
  | 100 => 0xBE8483EE#32
  | 101 => 0xBF60712A#32
  | 102 => 0x3F2CF37B#32
  | 103 => 0x3F0E39DA#32
  | 104 => 0xBF708FB2#32
  | 105 => 0xBDDEF599#32
  | 106 => 0x3F7DCF55#32
  | 107 => 0xBEB9917B#32
  | 108 => 0xBF51B3F3#32
  | 109 => 0x3F407893#32
  | 110 => 0x3EEC6A50#32
  | 111 => 0xBF78A9E0#32
  | 112 => 0xA50D3132#32
  | 113 => 0x3F78A9E0#32
  | 114 => 0xBEEC6A50#32
  | 115 => 0xBF407893#32
  | 116 => 0x3F51B3F3#32
  | 117 => 0x3EB9917B#32
  | 118 => 0xBF7DCF55#32
  | 119 => 0x3DDEF599#32
  | 120 => 0x3F708FB2#32
  | 121 => 0xBF0E39DA#32
  | 122 => 0xBF2CF37B#32
  | 123 => 0x3F60712A#32
  | 124 => 0x3E8483EE#32
  | 125 => 0xBF7FF067#32
  | 126 => 0x3E5DA259#32
  | 127 => 0x3F659974#32
  | _ => 0#32

noncomputable abbrev lit1t0_188 (i : Nat) : BitVec 32 := match i % 128 with
  | 0 => 0xBF248DBB#32
  | 1 => 0xBF176012#32
  | 2 => 0x3F6C835E#32
  | 3 => 0x3E1BC63C#32
  | 4 => 0xBF7F069E#32
  | 5 => 0x3EA493B7#32
  | 6 => 0x3F57E880#32
  | 7 => 0xBF38ECD8#32
  | 8 => 0xBF000000#32
  | 9 => 0x3F75C5D4#32
  | 10 => 0x3D32AA3E#32
  | 11 => 0xBF7B14BE#32
  | 12 => 0x3ED8616C#32
  | 13 => 0x3F47A682#32
  | 14 => 0xBF4B1934#32
  | 15 => 0xBECE34D0#32
  | 16 => 0x3F7C1C5C#32
  | 17 => 0xBD85F213#32
  | 18 => 0xBF7426CB#32
  | 19 => 0x3F04CE53#32
  | 20 => 0x3F3504F3#32
  | 21 => 0xBF5ADB81#32
  | 22 => 0xBE99F61C#32
  | 23 => 0x3F7F73AF#32
  | 24 => 0xBE31D0D4#32
  | 25 => 0xBF6A51DA#32
  | 26 => 0x3F1BD7CA#32
  | 27 => 0x3F203C85#32
  | 28 => 0xBF6803CA#32
  | 29 => 0xBE47C5C2#32
  | 30 => 0x3F7FC1A0#32
  | 31 => 0xBE8F45C0#32
  | 32 => 0xBF5DB3D7#32
  | 33 => 0x3F310700#32
  | 34 => 0x3F098C78#32
  | 35 => 0xBF726A03#32
  | 36 => 0xBDB27EB6#32
  | 37 => 0x3F7D0543#32
  | 38 => 0xBEC3EF15#32
  | 39 => 0xBF4E7327#32
  | 40 => 0x3F441B7D#32
  | 41 => 0x3EE273AA#32
  | 42 => 0xBF79EE89#32
  | 43 => 0x3CB2B521#32
  | 44 => 0x3F7746EA#32
  | 45 => 0xBEF64429#32
  | 46 => 0xBF3CBE35#32
  | 47 => 0x3F54DB31#32
  | 48 => 0x3EAF1D44#32
  | 49 => 0xBF7E7A7A#32
  | 50 => 0x3E05A8A8#32
  | 51 => 0x3F6E9811#32
  | 52 => 0xBF12D5E8#32
  | 53 => 0xBF28CAE3#32
  | 54 => 0x3F631324#32
  | 55 => 0x3E7363EE#32
  | 56 => 0xBF800000#32
  | 57 => 0x3E7363EE#32
  | 58 => 0x3F631324#32
  | 59 => 0xBF28CAE3#32
  | 60 => 0xBF12D5E8#32
  | 61 => 0x3F6E9811#32
  | 62 => 0x3E05A8A8#32
  | 63 => 0xBF7E7A7A#32
  | 64 => 0x3EAF1D44#32
  | 65 => 0x3F54DB31#32
  | 66 => 0xBF3CBE35#32
  | 67 => 0xBEF64429#32
  | 68 => 0x3F7746EA#32
  | 69 => 0x3CB2B521#32
  | 70 => 0xBF79EE89#32
  | 71 => 0x3EE273AA#32
  | 72 => 0x3F441B7D#32
  | 73 => 0xBF4E7327#32
  | 74 => 0xBEC3EF15#32
  | 75 => 0x3F7D0543#32
  | 76 => 0xBDB27EB6#32
  | 77 => 0xBF726A03#32
  | 78 => 0x3F098C78#32
  | 79 => 0x3F310700#32
  | 80 => 0xBF5DB3D7#32
  | 81 => 0xBE8F45C0#32
  | 82 => 0x3F7FC1A0#32
  | 83 => 0xBE47C5C2#32
  | 84 => 0xBF6803CA#32
  | 85 => 0x3F203C85#32
  | 86 => 0x3F1BD7CA#32
  | 87 => 0xBF6A51DA#32
  | 88 => 0xBE31D0D4#32
  | 89 => 0x3F7F73AF#32
  | 90 => 0xBE99F61C#32
  | 91 => 0xBF5ADB81#32
  | 92 => 0x3F3504F3#32
  | 93 => 0x3F04CE53#32
  | 94 => 0xBF7426CB#32
  | 95 => 0xBD85F213#32
  | 96 => 0x3F7C1C5C#32
  | 97 => 0xBECE34D0#32
  | 98 => 0xBF4B1934#32
  | 99 => 0x3F47A682#32
  | 100 => 0x3ED8616C#32
  | 101 => 0xBF7B14BE#32
  | 102 => 0x3D32AA3E#32
  | 103 => 0x3F75C5D4#32
  | 104 => 0xBF000000#32
  | 105 => 0xBF38ECD8#32
  | 106 => 0x3F57E880#32
  | 107 => 0x3EA493B7#32
  | 108 => 0xBF7F069E#32
  | 109 => 0x3E1BC63C#32
  | 110 => 0x3F6C835E#32
  | 111 => 0xBF176012#32
  | 112 => 0xBF248DBB#32
  | 113 => 0x3F659974#32
  | 114 => 0x3E5DA259#32
  | 115 => 0xBF7FF067#32
  | 116 => 0x3E8483EE#32
  | 117 => 0x3F60712A#32
  | 118 => 0xBF2CF37B#32
  | 119 => 0xBF0E39DA#32
  | 120 => 0x3F708FB2#32
  | 121 => 0x3DDEF599#32
  | 122 => 0xBF7DCF55#32
  | 123 => 0x3EB9917B#32
  | 124 => 0x3F51B3F3#32
  | 125 => 0xBF407893#32
  | 126 => 0xBEEC6A50#32
  | 127 => 0x3F78A9E0#32
  | _ => 0#32

noncomputable abbrev lit1t0_189 (i : Nat) : BitVec 32 := match i % 128 with
  | 0 => 0x80000000#32
  | 1 => 0xBF7746EA#32
  | 2 => 0x3F000000#32
  | 3 => 0x3F3504F3#32
  | 4 => 0xBF5DB3D7#32
  | 5 => 0xBE8483EE#32
  | 6 => 0x3F800000#32
  | 7 => 0xBE8483EE#32
  | 8 => 0xBF5DB3D7#32
  | 9 => 0x3F3504F3#32
  | 10 => 0x3F000000#32
  | 11 => 0xBF7746EA#32
  | 12 => 0xA50D3132#32
  | 13 => 0x3F7746EA#32
  | 14 => 0xBF000000#32
  | 15 => 0xBF3504F3#32
  | 16 => 0x3F5DB3D7#32
  | 17 => 0x3E8483EE#32
  | 18 => 0xBF800000#32
  | 19 => 0x3E8483EE#32
  | 20 => 0x3F5DB3D7#32
  | 21 => 0xBF3504F3#32
  | 22 => 0xBF000000#32
  | 23 => 0x3F7746EA#32
  | 24 => 0x80000000#32
  | 25 => 0xBF7746EA#32
  | 26 => 0x3F000000#32
  | 27 => 0x3F3504F3#32
  | 28 => 0xBF5DB3D7#32
  | 29 => 0xBE8483EE#32
  | 30 => 0x3F800000#32
  | 31 => 0xBE8483EE#32
  | 32 => 0xBF5DB3D7#32
  | 33 => 0x3F3504F3#32
  | 34 => 0x3F000000#32
  | 35 => 0xBF7746EA#32
  | 36 => 0xA50D3132#32
  | 37 => 0x3F7746EA#32
  | 38 => 0xBF000000#32
  | 39 => 0xBF3504F3#32
  | 40 => 0x3F5DB3D7#32
  | 41 => 0x3E8483EE#32
  | 42 => 0xBF800000#32
  | 43 => 0x3E8483EE#32
  | 44 => 0x3F5DB3D7#32
  | 45 => 0xBF3504F3#32
  | 46 => 0xBF000000#32
  | 47 => 0x3F7746EA#32
  | 48 => 0x80000000#32
  | 49 => 0xBF7746EA#32
  | 50 => 0x3F000000#32
  | 51 => 0x3F3504F3#32
  | 52 => 0xBF5DB3D7#32
  | 53 => 0xBE8483EE#32
  | 54 => 0x3F800000#32
  | 55 => 0xBE8483EE#32
  | 56 => 0xBF5DB3D7#32
  | 57 => 0x3F3504F3#32
  | 58 => 0x3F000000#32
  | 59 => 0xBF7746EA#32
  | 60 => 0xA50D3132#32
  | 61 => 0x3F7746EA#32
  | 62 => 0xBF000000#32
  | 63 => 0xBF3504F3#32
  | 64 => 0x3F5DB3D7#32
  | 65 => 0x3E8483EE#32
  | 66 => 0xBF800000#32
  | 67 => 0x3E8483EE#32
  | 68 => 0x3F5DB3D7#32
  | 69 => 0xBF3504F3#32
  | 70 => 0xBF000000#32
  | 71 => 0x3F7746EA#32
  | 72 => 0x80000000#32
  | 73 => 0xBF7746EA#32
  | 74 => 0x3F000000#32
  | 75 => 0x3F3504F3#32
  | 76 => 0xBF5DB3D7#32
  | 77 => 0xBE8483EE#32
  | 78 => 0x3F800000#32
  | 79 => 0xBE8483EE#32
  | 80 => 0xBF5DB3D7#32
  | 81 => 0x3F3504F3#32
  | 82 => 0x3F000000#32
  | 83 => 0xBF7746EA#32
  | 84 => 0xA50D3132#32
  | 85 => 0x3F7746EA#32
  | 86 => 0xBF000000#32
  | 87 => 0xBF3504F3#32
  | 88 => 0x3F5DB3D7#32
  | 89 => 0x3E8483EE#32
  | 90 => 0xBF800000#32
  | 91 => 0x3E8483EE#32
  | 92 => 0x3F5DB3D7#32
  | 93 => 0xBF3504F3#32
  | 94 => 0xBF000000#32
  | 95 => 0x3F7746EA#32
  | 96 => 0x80000000#32
  | 97 => 0xBF7746EA#32
  | 98 => 0x3F000000#32
  | 99 => 0x3F3504F3#32
  | 100 => 0xBF5DB3D7#32
  | 101 => 0xBE8483EE#32
  | 102 => 0x3F800000#32
  | 103 => 0xBE8483EE#32
  | 104 => 0xBF5DB3D7#32
  | 105 => 0x3F3504F3#32
  | 106 => 0x3F000000#32
  | 107 => 0xBF7746EA#32
  | 108 => 0xA50D3132#32
  | 109 => 0x3F7746EA#32
  | 110 => 0xBF000000#32
  | 111 => 0xBF3504F3#32
  | 112 => 0x3F5DB3D7#32
  | 113 => 0x3E8483EE#32
  | 114 => 0xBF800000#32
  | 115 => 0x3E8483EE#32
  | 116 => 0x3F5DB3D7#32
  | 117 => 0xBF3504F3#32
  | 118 => 0xBF000000#32
  | 119 => 0x3F7746EA#32
  | 120 => 0x80000000#32
  | 121 => 0xBF7746EA#32
  | 122 => 0x3F000000#32
  | 123 => 0x3F3504F3#32
  | 124 => 0xBF5DB3D7#32
  | 125 => 0xBE8483EE#32
  | 126 => 0x3F800000#32
  | 127 => 0xBE8483EE#32
  | _ => 0#32

noncomputable abbrev lit1t0_190 (i : Nat) : BitVec 32 := match i % 128 with
  | 0 => 0xBF5DB3D7#32
  | 1 => 0x3F3504F3#32
  | 2 => 0x3F000000#32
  | 3 => 0xBF7746EA#32
  | 4 => 0xA50D3132#32
  | 5 => 0x3F7746EA#32
  | 6 => 0xBF000000#32
  | 7 => 0xBF3504F3#32
  | 8 => 0x3F5DB3D7#32
  | 9 => 0x3E8483EE#32
  | 10 => 0xBF800000#32
  | 11 => 0x3E8483EE#32
  | 12 => 0x3F5DB3D7#32
  | 13 => 0xBF3504F3#32
  | 14 => 0xBF000000#32
  | 15 => 0x3F7746EA#32
  | 16 => 0x80000000#32
  | 17 => 0xBF7746EA#32
  | 18 => 0x3F000000#32
  | 19 => 0x3F3504F3#32
  | 20 => 0xBF5DB3D7#32
  | 21 => 0xBE8483EE#32
  | 22 => 0x3F800000#32
  | 23 => 0xBE8483EE#32
  | 24 => 0xBF5DB3D7#32
  | 25 => 0x3F3504F3#32
  | 26 => 0x3F000000#32
  | 27 => 0xBF7746EA#32
  | 28 => 0xA50D3132#32
  | 29 => 0x3F7746EA#32
  | 30 => 0xBF000000#32
  | 31 => 0xBF3504F3#32
  | 32 => 0x3F5DB3D7#32
  | 33 => 0x3E8483EE#32
  | 34 => 0xBF800000#32
  | 35 => 0x3E8483EE#32
  | 36 => 0x3F5DB3D7#32
  | 37 => 0xBF3504F3#32
  | 38 => 0xBF000000#32
  | 39 => 0x3F7746EA#32
  | 40 => 0x80000000#32
  | 41 => 0xBF7746EA#32
  | 42 => 0x3F000000#32
  | 43 => 0x3F3504F3#32
  | 44 => 0xBF5DB3D7#32
  | 45 => 0xBE8483EE#32
  | 46 => 0x3F800000#32
  | 47 => 0xBE8483EE#32
  | 48 => 0xBF5DB3D7#32
  | 49 => 0x3F3504F3#32
  | 50 => 0x3F000000#32
  | 51 => 0xBF7746EA#32
  | 52 => 0xA50D3132#32
  | 53 => 0x3F7746EA#32
  | 54 => 0xBF000000#32
  | 55 => 0xBF3504F3#32
  | 56 => 0x3F5DB3D7#32
  | 57 => 0x3E8483EE#32
  | 58 => 0xBF800000#32
  | 59 => 0x3E8483EE#32
  | 60 => 0x3F5DB3D7#32
  | 61 => 0xBF3504F3#32
  | 62 => 0xBF000000#32
  | 63 => 0x3F7746EA#32
  | 64 => 0x80000000#32
  | 65 => 0xBF7746EA#32
  | 66 => 0x3F000000#32
  | 67 => 0x3F3504F3#32
  | 68 => 0xBF5DB3D7#32
  | 69 => 0xBE8483EE#32
  | 70 => 0x3F800000#32
  | 71 => 0xBE8483EE#32
  | 72 => 0xBF5DB3D7#32
  | 73 => 0x3F3504F3#32
  | 74 => 0x3F000000#32
  | 75 => 0xBF7746EA#32
  | 76 => 0xA50D3132#32
  | 77 => 0x3F7746EA#32
  | 78 => 0xBF000000#32
  | 79 => 0xBF3504F3#32
  | 80 => 0x3F5DB3D7#32
  | 81 => 0x3E8483EE#32
  | 82 => 0xBF800000#32
  | 83 => 0x3E8483EE#32
  | 84 => 0x3F5DB3D7#32
  | 85 => 0xBF3504F3#32
  | 86 => 0xBF000000#32
  | 87 => 0x3F7746EA#32
  | 88 => 0x80000000#32
  | 89 => 0xBF7746EA#32
  | 90 => 0x3F000000#32
  | 91 => 0x3F3504F3#32
  | 92 => 0xBF5DB3D7#32
  | 93 => 0xBE8483EE#32
  | 94 => 0x3F800000#32
  | 95 => 0xBE8483EE#32
  | 96 => 0xBF5DB3D7#32
  | 97 => 0x3F3504F3#32
  | 98 => 0x3F000000#32
  | 99 => 0xBF7746EA#32
  | 100 => 0xA50D3132#32
  | 101 => 0x3F7746EA#32
  | 102 => 0xBF000000#32
  | 103 => 0xBF3504F3#32
  | 104 => 0x3F5DB3D7#32
  | 105 => 0x3E8483EE#32
  | 106 => 0xBF800000#32
  | 107 => 0x3E8483EE#32
  | 108 => 0x3F5DB3D7#32
  | 109 => 0xBF3504F3#32
  | 110 => 0xBF000000#32
  | 111 => 0x3F7746EA#32
  | 112 => 0x80000000#32
  | 113 => 0xBF7746EA#32
  | 114 => 0x3F000000#32
  | 115 => 0x3F3504F3#32
  | 116 => 0xBF5DB3D7#32
  | 117 => 0xBE8483EE#32
  | 118 => 0x3F800000#32
  | 119 => 0xBE8483EE#32
  | 120 => 0xBF5DB3D7#32
  | 121 => 0x3F3504F3#32
  | 122 => 0x3F000000#32
  | 123 => 0xBF7746EA#32
  | 124 => 0xA50D3132#32
  | 125 => 0x3F7746EA#32
  | 126 => 0xBF000000#32
  | 127 => 0xBF3504F3#32
  | _ => 0#32

noncomputable abbrev lit1t0_191 (i : Nat) : BitVec 32 := match i % 128 with
  | 0 => 0x3F5DB3D7#32
  | 1 => 0x3E8483EE#32
  | 2 => 0xBF800000#32
  | 3 => 0x3E8483EE#32
  | 4 => 0x3F5DB3D7#32
  | 5 => 0xBF3504F3#32
  | 6 => 0xBF000000#32
  | 7 => 0x3F7746EA#32
  | 8 => 0x80000000#32
  | 9 => 0xBF7746EA#32
  | 10 => 0x3F000000#32
  | 11 => 0x3F3504F3#32
  | 12 => 0xBF5DB3D7#32
  | 13 => 0xBE8483EE#32
  | 14 => 0x3F800000#32
  | 15 => 0xBE8483EE#32
  | 16 => 0xBF5DB3D7#32
  | 17 => 0x3F3504F3#32
  | 18 => 0x3F000000#32
  | 19 => 0xBF7746EA#32
  | 20 => 0xA50D3132#32
  | 21 => 0x3F7746EA#32
  | 22 => 0xBF000000#32
  | 23 => 0xBF3504F3#32
  | 24 => 0x3F5DB3D7#32
  | 25 => 0x3E8483EE#32
  | 26 => 0xBF800000#32
  | 27 => 0x3E8483EE#32
  | 28 => 0x3F5DB3D7#32
  | 29 => 0xBF3504F3#32
  | 30 => 0xBF000000#32
  | 31 => 0x3F7746EA#32
  | 32 => 0x80000000#32
  | 33 => 0xBF75C5D4#32
  | 34 => 0x3F098C78#32
  | 35 => 0x3F28CAE3#32
  | 36 => 0xBF6803CA#32
  | 37 => 0xBE1BC63C#32
  | 38 => 0x3F7DCF55#32
  | 39 => 0xBECE34D0#32
  | 40 => 0xBF441B7D#32
  | 41 => 0x3F54DB31#32
  | 42 => 0x3E99F61C#32
  | 43 => 0xBF7FF067#32
  | 44 => 0x3E8483EE#32
  | 45 => 0x3F5ADB81#32
  | 46 => 0xBF3CBE35#32
  | 47 => 0xBEE273AA#32
  | 48 => 0x3F7C1C5C#32
  | 49 => 0xBDDEF599#32
  | 50 => 0xBF6C835E#32
  | 51 => 0x3F203C85#32
  | 52 => 0x3F12D5E8#32
  | 53 => 0xBF726A03#32
  | 54 => 0xBD32AA3E#32
  | 55 => 0x3F78A9E0#32
  | 56 => 0xBF000000#32
  | 57 => 0xBF310700#32
  | 58 => 0x3F631324#32
  | 59 => 0x3E47C5C2#32
  | 60 => 0xBF7F069E#32
  | 61 => 0x3EB9917B#32
  | 62 => 0x3F4B1934#32
  | 63 => 0xBF4E7327#32
  | 64 => 0xBEAF1D44#32
  | 65 => 0x3F7F73AF#32
  | 66 => 0xBE5DA259#32
  | 67 => 0xBF60712A#32
  | 68 => 0x3F3504F3#32
  | 69 => 0x3EF64429#32
  | 70 => 0xBF79EE89#32
  | 71 => 0x3D85F213#32
  | 72 => 0x3F708FB2#32
  | 73 => 0xBF176012#32
  | 74 => 0xBF1BD7CA#32
  | 75 => 0x3F6E9811#32
  | 76 => 0x3DB27EB6#32
  | 77 => 0xBF7B14BE#32
  | 78 => 0x3EEC6A50#32
  | 79 => 0x3F38ECD8#32
  | 80 => 0xBF5DB3D7#32
  | 81 => 0xBE7363EE#32
  | 82 => 0x3F7FC1A0#32
  | 83 => 0xBEA493B7#32
  | 84 => 0xBF51B3F3#32
  | 85 => 0x3F47A682#32
  | 86 => 0x3EC3EF15#32
  | 87 => 0xBF7E7A7A#32
  | 88 => 0x3E31D0D4#32
  | 89 => 0x3F659974#32
  | 90 => 0xBF2CF37B#32
  | 91 => 0xBF04CE53#32
  | 92 => 0x3F7746EA#32
  | 93 => 0xBCB2B521#32
  | 94 => 0xBF7426CB#32
  | 95 => 0x3F0E39DA#32
  | 96 => 0x3F248DBB#32
  | 97 => 0xBF6A51DA#32
  | 98 => 0xBE05A8A8#32
  | 99 => 0x3F7D0543#32
  | 100 => 0xBED8616C#32
  | 101 => 0xBF407893#32
  | 102 => 0x3F57E880#32
  | 103 => 0x3E8F45C0#32
  | 104 => 0xBF800000#32
  | 105 => 0x3E8F45C0#32
  | 106 => 0x3F57E880#32
  | 107 => 0xBF407893#32
  | 108 => 0xBED8616C#32
  | 109 => 0x3F7D0543#32
  | 110 => 0xBE05A8A8#32
  | 111 => 0xBF6A51DA#32
  | 112 => 0x3F248DBB#32
  | 113 => 0x3F0E39DA#32
  | 114 => 0xBF7426CB#32
  | 115 => 0xBCB2B521#32
  | 116 => 0x3F7746EA#32
  | 117 => 0xBF04CE53#32
  | 118 => 0xBF2CF37B#32
  | 119 => 0x3F659974#32
  | 120 => 0x3E31D0D4#32
  | 121 => 0xBF7E7A7A#32
  | 122 => 0x3EC3EF15#32
  | 123 => 0x3F47A682#32
  | 124 => 0xBF51B3F3#32
  | 125 => 0xBEA493B7#32
  | 126 => 0x3F7FC1A0#32
  | 127 => 0xBE7363EE#32
  | _ => 0#32

noncomputable abbrev lit1t0_192 (i : Nat) : BitVec 32 := match i % 128 with
  | 0 => 0xBF5DB3D7#32
  | 1 => 0x3F38ECD8#32
  | 2 => 0x3EEC6A50#32
  | 3 => 0xBF7B14BE#32
  | 4 => 0x3DB27EB6#32
  | 5 => 0x3F6E9811#32
  | 6 => 0xBF1BD7CA#32
  | 7 => 0xBF176012#32
  | 8 => 0x3F708FB2#32
  | 9 => 0x3D85F213#32
  | 10 => 0xBF79EE89#32
  | 11 => 0x3EF64429#32
  | 12 => 0x3F3504F3#32
  | 13 => 0xBF60712A#32
  | 14 => 0xBE5DA259#32
  | 15 => 0x3F7F73AF#32
  | 16 => 0xBEAF1D44#32
  | 17 => 0xBF4E7327#32
  | 18 => 0x3F4B1934#32
  | 19 => 0x3EB9917B#32
  | 20 => 0xBF7F069E#32
  | 21 => 0x3E47C5C2#32
  | 22 => 0x3F631324#32
  | 23 => 0xBF310700#32
  | 24 => 0xBF000000#32
  | 25 => 0x3F78A9E0#32
  | 26 => 0xBD32AA3E#32
  | 27 => 0xBF726A03#32
  | 28 => 0x3F12D5E8#32
  | 29 => 0x3F203C85#32
  | 30 => 0xBF6C835E#32
  | 31 => 0xBDDEF599#32
  | 32 => 0x3F7C1C5C#32
  | 33 => 0xBEE273AA#32
  | 34 => 0xBF3CBE35#32
  | 35 => 0x3F5ADB81#32
  | 36 => 0x3E8483EE#32
  | 37 => 0xBF7FF067#32
  | 38 => 0x3E99F61C#32
  | 39 => 0x3F54DB31#32
  | 40 => 0xBF441B7D#32
  | 41 => 0xBECE34D0#32
  | 42 => 0x3F7DCF55#32
  | 43 => 0xBE1BC63C#32
  | 44 => 0xBF6803CA#32
  | 45 => 0x3F28CAE3#32
  | 46 => 0x3F098C78#32
  | 47 => 0xBF75C5D4#32
  | 48 => 0xA50D3132#32
  | 49 => 0x3F75C5D4#32
  | 50 => 0xBF098C78#32
  | 51 => 0xBF28CAE3#32
  | 52 => 0x3F6803CA#32
  | 53 => 0x3E1BC63C#32
  | 54 => 0xBF7DCF55#32
  | 55 => 0x3ECE34D0#32
  | 56 => 0x3F441B7D#32
  | 57 => 0xBF54DB31#32
  | 58 => 0xBE99F61C#32
  | 59 => 0x3F7FF067#32
  | 60 => 0xBE8483EE#32
  | 61 => 0xBF5ADB81#32
  | 62 => 0x3F3CBE35#32
  | 63 => 0x3EE273AA#32
  | 64 => 0xBF7C1C5C#32
  | 65 => 0x3DDEF599#32
  | 66 => 0x3F6C835E#32
  | 67 => 0xBF203C85#32
  | 68 => 0xBF12D5E8#32
  | 69 => 0x3F726A03#32
  | 70 => 0x3D32AA3E#32
  | 71 => 0xBF78A9E0#32
  | 72 => 0x3F000000#32
  | 73 => 0x3F310700#32
  | 74 => 0xBF631324#32
  | 75 => 0xBE47C5C2#32
  | 76 => 0x3F7F069E#32
  | 77 => 0xBEB9917B#32
  | 78 => 0xBF4B1934#32
  | 79 => 0x3F4E7327#32
  | 80 => 0x3EAF1D44#32
  | 81 => 0xBF7F73AF#32
  | 82 => 0x3E5DA259#32
  | 83 => 0x3F60712A#32
  | 84 => 0xBF3504F3#32
  | 85 => 0xBEF64429#32
  | 86 => 0x3F79EE89#32
  | 87 => 0xBD85F213#32
  | 88 => 0xBF708FB2#32
  | 89 => 0x3F176012#32
  | 90 => 0x3F1BD7CA#32
  | 91 => 0xBF6E9811#32
  | 92 => 0xBDB27EB6#32
  | 93 => 0x3F7B14BE#32
  | 94 => 0xBEEC6A50#32
  | 95 => 0xBF38ECD8#32
  | 96 => 0x3F5DB3D7#32
  | 97 => 0x3E7363EE#32
  | 98 => 0xBF7FC1A0#32
  | 99 => 0x3EA493B7#32
  | 100 => 0x3F51B3F3#32
  | 101 => 0xBF47A682#32
  | 102 => 0xBEC3EF15#32
  | 103 => 0x3F7E7A7A#32
  | 104 => 0xBE31D0D4#32
  | 105 => 0xBF659974#32
  | 106 => 0x3F2CF37B#32
  | 107 => 0x3F04CE53#32
  | 108 => 0xBF7746EA#32
  | 109 => 0x3CB2B521#32
  | 110 => 0x3F7426CB#32
  | 111 => 0xBF0E39DA#32
  | 112 => 0xBF248DBB#32
  | 113 => 0x3F6A51DA#32
  | 114 => 0x3E05A8A8#32
  | 115 => 0xBF7D0543#32
  | 116 => 0x3ED8616C#32
  | 117 => 0x3F407893#32
  | 118 => 0xBF57E880#32
  | 119 => 0xBE8F45C0#32
  | 120 => 0x3F800000#32
  | 121 => 0xBE8F45C0#32
  | 122 => 0xBF57E880#32
  | 123 => 0x3F407893#32
  | 124 => 0x3ED8616C#32
  | 125 => 0xBF7D0543#32
  | 126 => 0x3E05A8A8#32
  | 127 => 0x3F6A51DA#32
  | _ => 0#32

noncomputable abbrev lit1t0_193 (i : Nat) : BitVec 32 := match i % 128 with
  | 0 => 0xBF248DBB#32
  | 1 => 0xBF0E39DA#32
  | 2 => 0x3F7426CB#32
  | 3 => 0x3CB2B521#32
  | 4 => 0xBF7746EA#32
  | 5 => 0x3F04CE53#32
  | 6 => 0x3F2CF37B#32
  | 7 => 0xBF659974#32
  | 8 => 0xBE31D0D4#32
  | 9 => 0x3F7E7A7A#32
  | 10 => 0xBEC3EF15#32
  | 11 => 0xBF47A682#32
  | 12 => 0x3F51B3F3#32
  | 13 => 0x3EA493B7#32
  | 14 => 0xBF7FC1A0#32
  | 15 => 0x3E7363EE#32
  | 16 => 0x3F5DB3D7#32
  | 17 => 0xBF38ECD8#32
  | 18 => 0xBEEC6A50#32
  | 19 => 0x3F7B14BE#32
  | 20 => 0xBDB27EB6#32
  | 21 => 0xBF6E9811#32
  | 22 => 0x3F1BD7CA#32
  | 23 => 0x3F176012#32
  | 24 => 0xBF708FB2#32
  | 25 => 0xBD85F213#32
  | 26 => 0x3F79EE89#32
  | 27 => 0xBEF64429#32
  | 28 => 0xBF3504F3#32
  | 29 => 0x3F60712A#32
  | 30 => 0x3E5DA259#32
  | 31 => 0xBF7F73AF#32
  | 32 => 0x3EAF1D44#32
  | 33 => 0x3F4E7327#32
  | 34 => 0xBF4B1934#32
  | 35 => 0xBEB9917B#32
  | 36 => 0x3F7F069E#32
  | 37 => 0xBE47C5C2#32
  | 38 => 0xBF631324#32
  | 39 => 0x3F310700#32
  | 40 => 0x3F000000#32
  | 41 => 0xBF78A9E0#32
  | 42 => 0x3D32AA3E#32
  | 43 => 0x3F726A03#32
  | 44 => 0xBF12D5E8#32
  | 45 => 0xBF203C85#32
  | 46 => 0x3F6C835E#32
  | 47 => 0x3DDEF599#32
  | 48 => 0xBF7C1C5C#32
  | 49 => 0x3EE273AA#32
  | 50 => 0x3F3CBE35#32
  | 51 => 0xBF5ADB81#32
  | 52 => 0xBE8483EE#32
  | 53 => 0x3F7FF067#32
  | 54 => 0xBE99F61C#32
  | 55 => 0xBF54DB31#32
  | 56 => 0x3F441B7D#32
  | 57 => 0x3ECE34D0#32
  | 58 => 0xBF7DCF55#32
  | 59 => 0x3E1BC63C#32
  | 60 => 0x3F6803CA#32
  | 61 => 0xBF28CAE3#32
  | 62 => 0xBF098C78#32
  | 63 => 0x3F75C5D4#32
  | 64 => 0x80000000#32
  | 65 => 0xBF7426CB#32
  | 66 => 0x3F12D5E8#32
  | 67 => 0x3F1BD7CA#32
  | 68 => 0xBF708FB2#32
  | 69 => 0xBD32AA3E#32
  | 70 => 0x3F7746EA#32
  | 71 => 0xBF098C78#32
  | 72 => 0xBF248DBB#32
  | 73 => 0x3F6C835E#32
  | 74 => 0x3DB27EB6#32
  | 75 => 0xBF79EE89#32
  | 76 => 0x3F000000#32
  | 77 => 0x3F2CF37B#32
  | 78 => 0xBF6803CA#32
  | 79 => 0xBE05A8A8#32
  | 80 => 0x3F7C1C5C#32
  | 81 => 0xBEEC6A50#32
  | 82 => 0xBF3504F3#32
  | 83 => 0x3F631324#32
  | 84 => 0x3E31D0D4#32
  | 85 => 0xBF7DCF55#32
  | 86 => 0x3ED8616C#32
  | 87 => 0x3F3CBE35#32
  | 88 => 0xBF5DB3D7#32
  | 89 => 0xBE5DA259#32
  | 90 => 0x3F7F069E#32
  | 91 => 0xBEC3EF15#32
  | 92 => 0xBF441B7D#32
  | 93 => 0x3F57E880#32
  | 94 => 0x3E8483EE#32
  | 95 => 0xBF7FC1A0#32
  | 96 => 0x3EAF1D44#32
  | 97 => 0x3F4B1934#32
  | 98 => 0xBF51B3F3#32
  | 99 => 0xBE99F61C#32
  | 100 => 0x3F800000#32
  | 101 => 0xBE99F61C#32
  | 102 => 0xBF51B3F3#32
  | 103 => 0x3F4B1934#32
  | 104 => 0x3EAF1D44#32
  | 105 => 0xBF7FC1A0#32
  | 106 => 0x3E8483EE#32
  | 107 => 0x3F57E880#32
  | 108 => 0xBF441B7D#32
  | 109 => 0xBEC3EF15#32
  | 110 => 0x3F7F069E#32
  | 111 => 0xBE5DA259#32
  | 112 => 0xBF5DB3D7#32
  | 113 => 0x3F3CBE35#32
  | 114 => 0x3ED8616C#32
  | 115 => 0xBF7DCF55#32
  | 116 => 0x3E31D0D4#32
  | 117 => 0x3F631324#32
  | 118 => 0xBF3504F3#32
  | 119 => 0xBEEC6A50#32
  | 120 => 0x3F7C1C5C#32
  | 121 => 0xBE05A8A8#32
  | 122 => 0xBF6803CA#32
  | 123 => 0x3F2CF37B#32
  | 124 => 0x3F000000#32
  | 125 => 0xBF79EE89#32
  | 126 => 0x3DB27EB6#32
  | 127 => 0x3F6C835E#32
  | _ => 0#32

noncomputable abbrev lit1t0_194 (i : Nat) : BitVec 32 := match i % 128 with
  | 0 => 0xBF248DBB#32
  | 1 => 0xBF098C78#32
  | 2 => 0x3F7746EA#32
  | 3 => 0xBD32AA3E#32
  | 4 => 0xBF708FB2#32
  | 5 => 0x3F1BD7CA#32
  | 6 => 0x3F12D5E8#32
  | 7 => 0xBF7426CB#32
  | 8 => 0xA50D3132#32
  | 9 => 0x3F7426CB#32
  | 10 => 0xBF12D5E8#32
  | 11 => 0xBF1BD7CA#32
  | 12 => 0x3F708FB2#32
  | 13 => 0x3D32AA3E#32
  | 14 => 0xBF7746EA#32
  | 15 => 0x3F098C78#32
  | 16 => 0x3F248DBB#32
  | 17 => 0xBF6C835E#32
  | 18 => 0xBDB27EB6#32
  | 19 => 0x3F79EE89#32
  | 20 => 0xBF000000#32
  | 21 => 0xBF2CF37B#32
  | 22 => 0x3F6803CA#32
  | 23 => 0x3E05A8A8#32
  | 24 => 0xBF7C1C5C#32
  | 25 => 0x3EEC6A50#32
  | 26 => 0x3F3504F3#32
  | 27 => 0xBF631324#32
  | 28 => 0xBE31D0D4#32
  | 29 => 0x3F7DCF55#32
  | 30 => 0xBED8616C#32
  | 31 => 0xBF3CBE35#32
  | 32 => 0x3F5DB3D7#32
  | 33 => 0x3E5DA259#32
  | 34 => 0xBF7F069E#32
  | 35 => 0x3EC3EF15#32
  | 36 => 0x3F441B7D#32
  | 37 => 0xBF57E880#32
  | 38 => 0xBE8483EE#32
  | 39 => 0x3F7FC1A0#32
  | 40 => 0xBEAF1D44#32
  | 41 => 0xBF4B1934#32
  | 42 => 0x3F51B3F3#32
  | 43 => 0x3E99F61C#32
  | 44 => 0xBF800000#32
  | 45 => 0x3E99F61C#32
  | 46 => 0x3F51B3F3#32
  | 47 => 0xBF4B1934#32
  | 48 => 0xBEAF1D44#32
  | 49 => 0x3F7FC1A0#32
  | 50 => 0xBE8483EE#32
  | 51 => 0xBF57E880#32
  | 52 => 0x3F441B7D#32
  | 53 => 0x3EC3EF15#32
  | 54 => 0xBF7F069E#32
  | 55 => 0x3E5DA259#32
  | 56 => 0x3F5DB3D7#32
  | 57 => 0xBF3CBE35#32
  | 58 => 0xBED8616C#32
  | 59 => 0x3F7DCF55#32
  | 60 => 0xBE31D0D4#32
  | 61 => 0xBF631324#32
  | 62 => 0x3F3504F3#32
  | 63 => 0x3EEC6A50#32
  | 64 => 0xBF7C1C5C#32
  | 65 => 0x3E05A8A8#32
  | 66 => 0x3F6803CA#32
  | 67 => 0xBF2CF37B#32
  | 68 => 0xBF000000#32
  | 69 => 0x3F79EE89#32
  | 70 => 0xBDB27EB6#32
  | 71 => 0xBF6C835E#32
  | 72 => 0x3F248DBB#32
  | 73 => 0x3F098C78#32
  | 74 => 0xBF7746EA#32
  | 75 => 0x3D32AA3E#32
  | 76 => 0x3F708FB2#32
  | 77 => 0xBF1BD7CA#32
  | 78 => 0xBF12D5E8#32
  | 79 => 0x3F7426CB#32
  | 80 => 0x80000000#32
  | 81 => 0xBF7426CB#32
  | 82 => 0x3F12D5E8#32
  | 83 => 0x3F1BD7CA#32
  | 84 => 0xBF708FB2#32
  | 85 => 0xBD32AA3E#32
  | 86 => 0x3F7746EA#32
  | 87 => 0xBF098C78#32
  | 88 => 0xBF248DBB#32
  | 89 => 0x3F6C835E#32
  | 90 => 0x3DB27EB6#32
  | 91 => 0xBF79EE89#32
  | 92 => 0x3F000000#32
  | 93 => 0x3F2CF37B#32
  | 94 => 0xBF6803CA#32
  | 95 => 0xBE05A8A8#32
  | 96 => 0x3F7C1C5C#32
  | 97 => 0xBEEC6A50#32
  | 98 => 0xBF3504F3#32
  | 99 => 0x3F631324#32
  | 100 => 0x3E31D0D4#32
  | 101 => 0xBF7DCF55#32
  | 102 => 0x3ED8616C#32
  | 103 => 0x3F3CBE35#32
  | 104 => 0xBF5DB3D7#32
  | 105 => 0xBE5DA259#32
  | 106 => 0x3F7F069E#32
  | 107 => 0xBEC3EF15#32
  | 108 => 0xBF441B7D#32
  | 109 => 0x3F57E880#32
  | 110 => 0x3E8483EE#32
  | 111 => 0xBF7FC1A0#32
  | 112 => 0x3EAF1D44#32
  | 113 => 0x3F4B1934#32
  | 114 => 0xBF51B3F3#32
  | 115 => 0xBE99F61C#32
  | 116 => 0x3F800000#32
  | 117 => 0xBE99F61C#32
  | 118 => 0xBF51B3F3#32
  | 119 => 0x3F4B1934#32
  | 120 => 0x3EAF1D44#32
  | 121 => 0xBF7FC1A0#32
  | 122 => 0x3E8483EE#32
  | 123 => 0x3F57E880#32
  | 124 => 0xBF441B7D#32
  | 125 => 0xBEC3EF15#32
  | 126 => 0x3F7F069E#32
  | 127 => 0xBE5DA259#32
  | _ => 0#32

noncomputable abbrev lit1t0_195 (i : Nat) : BitVec 32 := match i % 128 with
  | 0 => 0xBF5DB3D7#32
  | 1 => 0x3F3CBE35#32
  | 2 => 0x3ED8616C#32
  | 3 => 0xBF7DCF55#32
  | 4 => 0x3E31D0D4#32
  | 5 => 0x3F631324#32
  | 6 => 0xBF3504F3#32
  | 7 => 0xBEEC6A50#32
  | 8 => 0x3F7C1C5C#32
  | 9 => 0xBE05A8A8#32
  | 10 => 0xBF6803CA#32
  | 11 => 0x3F2CF37B#32
  | 12 => 0x3F000000#32
  | 13 => 0xBF79EE89#32
  | 14 => 0x3DB27EB6#32
  | 15 => 0x3F6C835E#32
  | 16 => 0xBF248DBB#32
  | 17 => 0xBF098C78#32
  | 18 => 0x3F7746EA#32
  | 19 => 0xBD32AA3E#32
  | 20 => 0xBF708FB2#32
  | 21 => 0x3F1BD7CA#32
  | 22 => 0x3F12D5E8#32
  | 23 => 0xBF7426CB#32
  | 24 => 0xA50D3132#32
  | 25 => 0x3F7426CB#32
  | 26 => 0xBF12D5E8#32
  | 27 => 0xBF1BD7CA#32
  | 28 => 0x3F708FB2#32
  | 29 => 0x3D32AA3E#32
  | 30 => 0xBF7746EA#32
  | 31 => 0x3F098C78#32
  | 32 => 0x3F248DBB#32
  | 33 => 0xBF6C835E#32
  | 34 => 0xBDB27EB6#32
  | 35 => 0x3F79EE89#32
  | 36 => 0xBF000000#32
  | 37 => 0xBF2CF37B#32
  | 38 => 0x3F6803CA#32
  | 39 => 0x3E05A8A8#32
  | 40 => 0xBF7C1C5C#32
  | 41 => 0x3EEC6A50#32
  | 42 => 0x3F3504F3#32
  | 43 => 0xBF631324#32
  | 44 => 0xBE31D0D4#32
  | 45 => 0x3F7DCF55#32
  | 46 => 0xBED8616C#32
  | 47 => 0xBF3CBE35#32
  | 48 => 0x3F5DB3D7#32
  | 49 => 0x3E5DA259#32
  | 50 => 0xBF7F069E#32
  | 51 => 0x3EC3EF15#32
  | 52 => 0x3F441B7D#32
  | 53 => 0xBF57E880#32
  | 54 => 0xBE8483EE#32
  | 55 => 0x3F7FC1A0#32
  | 56 => 0xBEAF1D44#32
  | 57 => 0xBF4B1934#32
  | 58 => 0x3F51B3F3#32
  | 59 => 0x3E99F61C#32
  | 60 => 0xBF800000#32
  | 61 => 0x3E99F61C#32
  | 62 => 0x3F51B3F3#32
  | 63 => 0xBF4B1934#32
  | 64 => 0xBEAF1D44#32
  | 65 => 0x3F7FC1A0#32
  | 66 => 0xBE8483EE#32
  | 67 => 0xBF57E880#32
  | 68 => 0x3F441B7D#32
  | 69 => 0x3EC3EF15#32
  | 70 => 0xBF7F069E#32
  | 71 => 0x3E5DA259#32
  | 72 => 0x3F5DB3D7#32
  | 73 => 0xBF3CBE35#32
  | 74 => 0xBED8616C#32
  | 75 => 0x3F7DCF55#32
  | 76 => 0xBE31D0D4#32
  | 77 => 0xBF631324#32
  | 78 => 0x3F3504F3#32
  | 79 => 0x3EEC6A50#32
  | 80 => 0xBF7C1C5C#32
  | 81 => 0x3E05A8A8#32
  | 82 => 0x3F6803CA#32
  | 83 => 0xBF2CF37B#32
  | 84 => 0xBF000000#32
  | 85 => 0x3F79EE89#32
  | 86 => 0xBDB27EB6#32
  | 87 => 0xBF6C835E#32
  | 88 => 0x3F248DBB#32
  | 89 => 0x3F098C78#32
  | 90 => 0xBF7746EA#32
  | 91 => 0x3D32AA3E#32
  | 92 => 0x3F708FB2#32
  | 93 => 0xBF1BD7CA#32
  | 94 => 0xBF12D5E8#32
  | 95 => 0x3F7426CB#32
  | 96 => 0x80000000#32
  | 97 => 0xBF726A03#32
  | 98 => 0x3F1BD7CA#32
  | 99 => 0x3F0E39DA#32
  | 100 => 0xBF7746EA#32
  | 101 => 0x3D85F213#32
  | 102 => 0x3F6C835E#32
  | 103 => 0xBF28CAE3#32
  | 104 => 0xBF000000#32
  | 105 => 0x3F7B14BE#32
  | 106 => 0xBE05A8A8#32
  | 107 => 0xBF659974#32
  | 108 => 0x3F3504F3#32
  | 109 => 0x3EE273AA#32
  | 110 => 0xBF7DCF55#32
  | 111 => 0x3E47C5C2#32
  | 112 => 0x3F5DB3D7#32
  | 113 => 0xBF407893#32
  | 114 => 0xBEC3EF15#32
  | 115 => 0x3F7F73AF#32
  | 116 => 0xBE8483EE#32
  | 117 => 0xBF54DB31#32
  | 118 => 0x3F4B1934#32
  | 119 => 0x3EA493B7#32
  | 120 => 0xBF800000#32
  | 121 => 0x3EA493B7#32
  | 122 => 0x3F4B1934#32
  | 123 => 0xBF54DB31#32
  | 124 => 0xBE8483EE#32
  | 125 => 0x3F7F73AF#32
  | 126 => 0xBEC3EF15#32
  | 127 => 0xBF407893#32
  | _ => 0#32

noncomputable abbrev lit1t0_196 (i : Nat) : BitVec 32 := match i % 128 with
  | 0 => 0x3F5DB3D7#32
  | 1 => 0x3E47C5C2#32
  | 2 => 0xBF7DCF55#32
  | 3 => 0x3EE273AA#32
  | 4 => 0x3F3504F3#32
  | 5 => 0xBF659974#32
  | 6 => 0xBE05A8A8#32
  | 7 => 0x3F7B14BE#32
  | 8 => 0xBF000000#32
  | 9 => 0xBF28CAE3#32
  | 10 => 0x3F6C835E#32
  | 11 => 0x3D85F213#32
  | 12 => 0xBF7746EA#32
  | 13 => 0x3F0E39DA#32
  | 14 => 0x3F1BD7CA#32
  | 15 => 0xBF726A03#32
  | 16 => 0xA50D3132#32
  | 17 => 0x3F726A03#32
  | 18 => 0xBF1BD7CA#32
  | 19 => 0xBF0E39DA#32
  | 20 => 0x3F7746EA#32
  | 21 => 0xBD85F213#32
  | 22 => 0xBF6C835E#32
  | 23 => 0x3F28CAE3#32
  | 24 => 0x3F000000#32
  | 25 => 0xBF7B14BE#32
  | 26 => 0x3E05A8A8#32
  | 27 => 0x3F659974#32
  | 28 => 0xBF3504F3#32
  | 29 => 0xBEE273AA#32
  | 30 => 0x3F7DCF55#32
  | 31 => 0xBE47C5C2#32
  | 32 => 0xBF5DB3D7#32
  | 33 => 0x3F407893#32
  | 34 => 0x3EC3EF15#32
  | 35 => 0xBF7F73AF#32
  | 36 => 0x3E8483EE#32
  | 37 => 0x3F54DB31#32
  | 38 => 0xBF4B1934#32
  | 39 => 0xBEA493B7#32
  | 40 => 0x3F800000#32
  | 41 => 0xBEA493B7#32
  | 42 => 0xBF4B1934#32
  | 43 => 0x3F54DB31#32
  | 44 => 0x3E8483EE#32
  | 45 => 0xBF7F73AF#32
  | 46 => 0x3EC3EF15#32
  | 47 => 0x3F407893#32
  | 48 => 0xBF5DB3D7#32
  | 49 => 0xBE47C5C2#32
  | 50 => 0x3F7DCF55#32
  | 51 => 0xBEE273AA#32
  | 52 => 0xBF3504F3#32
  | 53 => 0x3F659974#32
  | 54 => 0x3E05A8A8#32
  | 55 => 0xBF7B14BE#32
  | 56 => 0x3F000000#32
  | 57 => 0x3F28CAE3#32
  | 58 => 0xBF6C835E#32
  | 59 => 0xBD85F213#32
  | 60 => 0x3F7746EA#32
  | 61 => 0xBF0E39DA#32
  | 62 => 0xBF1BD7CA#32
  | 63 => 0x3F726A03#32
  | 64 => 0x80000000#32
  | 65 => 0xBF726A03#32
  | 66 => 0x3F1BD7CA#32
  | 67 => 0x3F0E39DA#32
  | 68 => 0xBF7746EA#32
  | 69 => 0x3D85F213#32
  | 70 => 0x3F6C835E#32
  | 71 => 0xBF28CAE3#32
  | 72 => 0xBF000000#32
  | 73 => 0x3F7B14BE#32
  | 74 => 0xBE05A8A8#32
  | 75 => 0xBF659974#32
  | 76 => 0x3F3504F3#32
  | 77 => 0x3EE273AA#32
  | 78 => 0xBF7DCF55#32
  | 79 => 0x3E47C5C2#32
  | 80 => 0x3F5DB3D7#32
  | 81 => 0xBF407893#32
  | 82 => 0xBEC3EF15#32
  | 83 => 0x3F7F73AF#32
  | 84 => 0xBE8483EE#32
  | 85 => 0xBF54DB31#32
  | 86 => 0x3F4B1934#32
  | 87 => 0x3EA493B7#32
  | 88 => 0xBF800000#32
  | 89 => 0x3EA493B7#32
  | 90 => 0x3F4B1934#32
  | 91 => 0xBF54DB31#32
  | 92 => 0xBE8483EE#32
  | 93 => 0x3F7F73AF#32
  | 94 => 0xBEC3EF15#32
  | 95 => 0xBF407893#32
  | 96 => 0x3F5DB3D7#32
  | 97 => 0x3E47C5C2#32
  | 98 => 0xBF7DCF55#32
  | 99 => 0x3EE273AA#32
  | 100 => 0x3F3504F3#32
  | 101 => 0xBF659974#32
  | 102 => 0xBE05A8A8#32
  | 103 => 0x3F7B14BE#32
  | 104 => 0xBF000000#32
  | 105 => 0xBF28CAE3#32
  | 106 => 0x3F6C835E#32
  | 107 => 0x3D85F213#32
  | 108 => 0xBF7746EA#32
  | 109 => 0x3F0E39DA#32
  | 110 => 0x3F1BD7CA#32
  | 111 => 0xBF726A03#32
  | 112 => 0xA50D3132#32
  | 113 => 0x3F726A03#32
  | 114 => 0xBF1BD7CA#32
  | 115 => 0xBF0E39DA#32
  | 116 => 0x3F7746EA#32
  | 117 => 0xBD85F213#32
  | 118 => 0xBF6C835E#32
  | 119 => 0x3F28CAE3#32
  | 120 => 0x3F000000#32
  | 121 => 0xBF7B14BE#32
  | 122 => 0x3E05A8A8#32
  | 123 => 0x3F659974#32
  | 124 => 0xBF3504F3#32
  | 125 => 0xBEE273AA#32
  | 126 => 0x3F7DCF55#32
  | 127 => 0xBE47C5C2#32
  | _ => 0#32

noncomputable abbrev lit1t0_197 (i : Nat) : BitVec 32 := match i % 128 with
  | 0 => 0xBF5DB3D7#32
  | 1 => 0x3F407893#32
  | 2 => 0x3EC3EF15#32
  | 3 => 0xBF7F73AF#32
  | 4 => 0x3E8483EE#32
  | 5 => 0x3F54DB31#32
  | 6 => 0xBF4B1934#32
  | 7 => 0xBEA493B7#32
  | 8 => 0x3F800000#32
  | 9 => 0xBEA493B7#32
  | 10 => 0xBF4B1934#32
  | 11 => 0x3F54DB31#32
  | 12 => 0x3E8483EE#32
  | 13 => 0xBF7F73AF#32
  | 14 => 0x3EC3EF15#32
  | 15 => 0x3F407893#32
  | 16 => 0xBF5DB3D7#32
  | 17 => 0xBE47C5C2#32
  | 18 => 0x3F7DCF55#32
  | 19 => 0xBEE273AA#32
  | 20 => 0xBF3504F3#32
  | 21 => 0x3F659974#32
  | 22 => 0x3E05A8A8#32
  | 23 => 0xBF7B14BE#32
  | 24 => 0x3F000000#32
  | 25 => 0x3F28CAE3#32
  | 26 => 0xBF6C835E#32
  | 27 => 0xBD85F213#32
  | 28 => 0x3F7746EA#32
  | 29 => 0xBF0E39DA#32
  | 30 => 0xBF1BD7CA#32
  | 31 => 0x3F726A03#32
  | 32 => 0x80000000#32
  | 33 => 0xBF726A03#32
  | 34 => 0x3F1BD7CA#32
  | 35 => 0x3F0E39DA#32
  | 36 => 0xBF7746EA#32
  | 37 => 0x3D85F213#32
  | 38 => 0x3F6C835E#32
  | 39 => 0xBF28CAE3#32
  | 40 => 0xBF000000#32
  | 41 => 0x3F7B14BE#32
  | 42 => 0xBE05A8A8#32
  | 43 => 0xBF659974#32
  | 44 => 0x3F3504F3#32
  | 45 => 0x3EE273AA#32
  | 46 => 0xBF7DCF55#32
  | 47 => 0x3E47C5C2#32
  | 48 => 0x3F5DB3D7#32
  | 49 => 0xBF407893#32
  | 50 => 0xBEC3EF15#32
  | 51 => 0x3F7F73AF#32
  | 52 => 0xBE8483EE#32
  | 53 => 0xBF54DB31#32
  | 54 => 0x3F4B1934#32
  | 55 => 0x3EA493B7#32
  | 56 => 0xBF800000#32
  | 57 => 0x3EA493B7#32
  | 58 => 0x3F4B1934#32
  | 59 => 0xBF54DB31#32
  | 60 => 0xBE8483EE#32
  | 61 => 0x3F7F73AF#32
  | 62 => 0xBEC3EF15#32
  | 63 => 0xBF407893#32
  | 64 => 0x3F5DB3D7#32
  | 65 => 0x3E47C5C2#32
  | 66 => 0xBF7DCF55#32
  | 67 => 0x3EE273AA#32
  | 68 => 0x3F3504F3#32
  | 69 => 0xBF659974#32
  | 70 => 0xBE05A8A8#32
  | 71 => 0x3F7B14BE#32
  | 72 => 0xBF000000#32
  | 73 => 0xBF28CAE3#32
  | 74 => 0x3F6C835E#32
  | 75 => 0x3D85F213#32
  | 76 => 0xBF7746EA#32
  | 77 => 0x3F0E39DA#32
  | 78 => 0x3F1BD7CA#32
  | 79 => 0xBF726A03#32
  | 80 => 0xA50D3132#32
  | 81 => 0x3F726A03#32
  | 82 => 0xBF1BD7CA#32
  | 83 => 0xBF0E39DA#32
  | 84 => 0x3F7746EA#32
  | 85 => 0xBD85F213#32
  | 86 => 0xBF6C835E#32
  | 87 => 0x3F28CAE3#32
  | 88 => 0x3F000000#32
  | 89 => 0xBF7B14BE#32
  | 90 => 0x3E05A8A8#32
  | 91 => 0x3F659974#32
  | 92 => 0xBF3504F3#32
  | 93 => 0xBEE273AA#32
  | 94 => 0x3F7DCF55#32
  | 95 => 0xBE47C5C2#32
  | 96 => 0xBF5DB3D7#32
  | 97 => 0x3F407893#32
  | 98 => 0x3EC3EF15#32
  | 99 => 0xBF7F73AF#32
  | 100 => 0x3E8483EE#32
  | 101 => 0x3F54DB31#32
  | 102 => 0xBF4B1934#32
  | 103 => 0xBEA493B7#32
  | 104 => 0x3F800000#32
  | 105 => 0xBEA493B7#32
  | 106 => 0xBF4B1934#32
  | 107 => 0x3F54DB31#32
  | 108 => 0x3E8483EE#32
  | 109 => 0xBF7F73AF#32
  | 110 => 0x3EC3EF15#32
  | 111 => 0x3F407893#32
  | 112 => 0xBF5DB3D7#32
  | 113 => 0xBE47C5C2#32
  | 114 => 0x3F7DCF55#32
  | 115 => 0xBEE273AA#32
  | 116 => 0xBF3504F3#32
  | 117 => 0x3F659974#32
  | 118 => 0x3E05A8A8#32
  | 119 => 0xBF7B14BE#32
  | 120 => 0x3F000000#32
  | 121 => 0x3F28CAE3#32
  | 122 => 0xBF6C835E#32
  | 123 => 0xBD85F213#32
  | 124 => 0x3F7746EA#32
  | 125 => 0xBF0E39DA#32
  | 126 => 0xBF1BD7CA#32
  | 127 => 0x3F726A03#32
  | _ => 0#32

noncomputable abbrev lit1t0_198 (i : Nat) : BitVec 32 := match i % 128 with
  | 0 => 0x80000000#32
  | 1 => 0xBF708FB2#32
  | 2 => 0x3F248DBB#32
  | 3 => 0x3F000000#32
  | 4 => 0xBF7C1C5C#32
  | 5 => 0x3E31D0D4#32
  | 6 => 0x3F5DB3D7#32
  | 7 => 0xBF441B7D#32
  | 8 => 0xBEAF1D44#32
  | 9 => 0x3F800000#32
  | 10 => 0xBEAF1D44#32
  | 11 => 0xBF441B7D#32
  | 12 => 0x3F5DB3D7#32
  | 13 => 0x3E31D0D4#32
  | 14 => 0xBF7C1C5C#32
  | 15 => 0x3F000000#32
  | 16 => 0x3F248DBB#32
  | 17 => 0xBF708FB2#32
  | 18 => 0xA50D3132#32
  | 19 => 0x3F708FB2#32
  | 20 => 0xBF248DBB#32
  | 21 => 0xBF000000#32
  | 22 => 0x3F7C1C5C#32
  | 23 => 0xBE31D0D4#32
  | 24 => 0xBF5DB3D7#32
  | 25 => 0x3F441B7D#32
  | 26 => 0x3EAF1D44#32
  | 27 => 0xBF800000#32
  | 28 => 0x3EAF1D44#32
  | 29 => 0x3F441B7D#32
  | 30 => 0xBF5DB3D7#32
  | 31 => 0xBE31D0D4#32
  | 32 => 0x3F7C1C5C#32
  | 33 => 0xBF000000#32
  | 34 => 0xBF248DBB#32
  | 35 => 0x3F708FB2#32
  | 36 => 0x80000000#32
  | 37 => 0xBF708FB2#32
  | 38 => 0x3F248DBB#32
  | 39 => 0x3F000000#32
  | 40 => 0xBF7C1C5C#32
  | 41 => 0x3E31D0D4#32
  | 42 => 0x3F5DB3D7#32
  | 43 => 0xBF441B7D#32
  | 44 => 0xBEAF1D44#32
  | 45 => 0x3F800000#32
  | 46 => 0xBEAF1D44#32
  | 47 => 0xBF441B7D#32
  | 48 => 0x3F5DB3D7#32
  | 49 => 0x3E31D0D4#32
  | 50 => 0xBF7C1C5C#32
  | 51 => 0x3F000000#32
  | 52 => 0x3F248DBB#32
  | 53 => 0xBF708FB2#32
  | 54 => 0xA50D3132#32
  | 55 => 0x3F708FB2#32
  | 56 => 0xBF248DBB#32
  | 57 => 0xBF000000#32
  | 58 => 0x3F7C1C5C#32
  | 59 => 0xBE31D0D4#32
  | 60 => 0xBF5DB3D7#32
  | 61 => 0x3F441B7D#32
  | 62 => 0x3EAF1D44#32
  | 63 => 0xBF800000#32
  | 64 => 0x3EAF1D44#32
  | 65 => 0x3F441B7D#32
  | 66 => 0xBF5DB3D7#32
  | 67 => 0xBE31D0D4#32
  | 68 => 0x3F7C1C5C#32
  | 69 => 0xBF000000#32
  | 70 => 0xBF248DBB#32
  | 71 => 0x3F708FB2#32
  | 72 => 0x80000000#32
  | 73 => 0xBF708FB2#32
  | 74 => 0x3F248DBB#32
  | 75 => 0x3F000000#32
  | 76 => 0xBF7C1C5C#32
  | 77 => 0x3E31D0D4#32
  | 78 => 0x3F5DB3D7#32
  | 79 => 0xBF441B7D#32
  | 80 => 0xBEAF1D44#32
  | 81 => 0x3F800000#32
  | 82 => 0xBEAF1D44#32
  | 83 => 0xBF441B7D#32
  | 84 => 0x3F5DB3D7#32
  | 85 => 0x3E31D0D4#32
  | 86 => 0xBF7C1C5C#32
  | 87 => 0x3F000000#32
  | 88 => 0x3F248DBB#32
  | 89 => 0xBF708FB2#32
  | 90 => 0xA50D3132#32
  | 91 => 0x3F708FB2#32
  | 92 => 0xBF248DBB#32
  | 93 => 0xBF000000#32
  | 94 => 0x3F7C1C5C#32
  | 95 => 0xBE31D0D4#32
  | 96 => 0xBF5DB3D7#32
  | 97 => 0x3F441B7D#32
  | 98 => 0x3EAF1D44#32
  | 99 => 0xBF800000#32
  | 100 => 0x3EAF1D44#32
  | 101 => 0x3F441B7D#32
  | 102 => 0xBF5DB3D7#32
  | 103 => 0xBE31D0D4#32
  | 104 => 0x3F7C1C5C#32
  | 105 => 0xBF000000#32
  | 106 => 0xBF248DBB#32
  | 107 => 0x3F708FB2#32
  | 108 => 0x80000000#32
  | 109 => 0xBF708FB2#32
  | 110 => 0x3F248DBB#32
  | 111 => 0x3F000000#32
  | 112 => 0xBF7C1C5C#32
  | 113 => 0x3E31D0D4#32
  | 114 => 0x3F5DB3D7#32
  | 115 => 0xBF441B7D#32
  | 116 => 0xBEAF1D44#32
  | 117 => 0x3F800000#32
  | 118 => 0xBEAF1D44#32
  | 119 => 0xBF441B7D#32
  | 120 => 0x3F5DB3D7#32
  | 121 => 0x3E31D0D4#32
  | 122 => 0xBF7C1C5C#32
  | 123 => 0x3F000000#32
  | 124 => 0x3F248DBB#32
  | 125 => 0xBF708FB2#32
  | 126 => 0xA50D3132#32
  | 127 => 0x3F708FB2#32
  | _ => 0#32

noncomputable abbrev lit1t0_199 (i : Nat) : BitVec 32 := match i % 128 with
  | 0 => 0xBF248DBB#32
  | 1 => 0xBF000000#32
  | 2 => 0x3F7C1C5C#32
  | 3 => 0xBE31D0D4#32
  | 4 => 0xBF5DB3D7#32
  | 5 => 0x3F441B7D#32
  | 6 => 0x3EAF1D44#32
  | 7 => 0xBF800000#32
  | 8 => 0x3EAF1D44#32
  | 9 => 0x3F441B7D#32
  | 10 => 0xBF5DB3D7#32
  | 11 => 0xBE31D0D4#32
  | 12 => 0x3F7C1C5C#32
  | 13 => 0xBF000000#32
  | 14 => 0xBF248DBB#32
  | 15 => 0x3F708FB2#32
  | 16 => 0x80000000#32
  | 17 => 0xBF708FB2#32
  | 18 => 0x3F248DBB#32
  | 19 => 0x3F000000#32
  | 20 => 0xBF7C1C5C#32
  | 21 => 0x3E31D0D4#32
  | 22 => 0x3F5DB3D7#32
  | 23 => 0xBF441B7D#32
  | 24 => 0xBEAF1D44#32
  | 25 => 0x3F800000#32
  | 26 => 0xBEAF1D44#32
  | 27 => 0xBF441B7D#32
  | 28 => 0x3F5DB3D7#32
  | 29 => 0x3E31D0D4#32
  | 30 => 0xBF7C1C5C#32
  | 31 => 0x3F000000#32
  | 32 => 0x3F248DBB#32
  | 33 => 0xBF708FB2#32
  | 34 => 0xA50D3132#32
  | 35 => 0x3F708FB2#32
  | 36 => 0xBF248DBB#32
  | 37 => 0xBF000000#32
  | 38 => 0x3F7C1C5C#32
  | 39 => 0xBE31D0D4#32
  | 40 => 0xBF5DB3D7#32
  | 41 => 0x3F441B7D#32
  | 42 => 0x3EAF1D44#32
  | 43 => 0xBF800000#32
  | 44 => 0x3EAF1D44#32
  | 45 => 0x3F441B7D#32
  | 46 => 0xBF5DB3D7#32
  | 47 => 0xBE31D0D4#32
  | 48 => 0x3F7C1C5C#32
  | 49 => 0xBF000000#32
  | 50 => 0xBF248DBB#32
  | 51 => 0x3F708FB2#32
  | 52 => 0x80000000#32
  | 53 => 0xBF708FB2#32
  | 54 => 0x3F248DBB#32
  | 55 => 0x3F000000#32
  | 56 => 0xBF7C1C5C#32
  | 57 => 0x3E31D0D4#32
  | 58 => 0x3F5DB3D7#32
  | 59 => 0xBF441B7D#32
  | 60 => 0xBEAF1D44#32
  | 61 => 0x3F800000#32
  | 62 => 0xBEAF1D44#32
  | 63 => 0xBF441B7D#32
  | 64 => 0x3F5DB3D7#32
  | 65 => 0x3E31D0D4#32
  | 66 => 0xBF7C1C5C#32
  | 67 => 0x3F000000#32
  | 68 => 0x3F248DBB#32
  | 69 => 0xBF708FB2#32
  | 70 => 0xA50D3132#32
  | 71 => 0x3F708FB2#32
  | 72 => 0xBF248DBB#32
  | 73 => 0xBF000000#32
  | 74 => 0x3F7C1C5C#32
  | 75 => 0xBE31D0D4#32
  | 76 => 0xBF5DB3D7#32
  | 77 => 0x3F441B7D#32
  | 78 => 0x3EAF1D44#32
  | 79 => 0xBF800000#32
  | 80 => 0x3EAF1D44#32
  | 81 => 0x3F441B7D#32
  | 82 => 0xBF5DB3D7#32
  | 83 => 0xBE31D0D4#32
  | 84 => 0x3F7C1C5C#32
  | 85 => 0xBF000000#32
  | 86 => 0xBF248DBB#32
  | 87 => 0x3F708FB2#32
  | 88 => 0x80000000#32
  | 89 => 0xBF708FB2#32
  | 90 => 0x3F248DBB#32
  | 91 => 0x3F000000#32
  | 92 => 0xBF7C1C5C#32
  | 93 => 0x3E31D0D4#32
  | 94 => 0x3F5DB3D7#32
  | 95 => 0xBF441B7D#32
  | 96 => 0xBEAF1D44#32
  | 97 => 0x3F800000#32
  | 98 => 0xBEAF1D44#32
  | 99 => 0xBF441B7D#32
  | 100 => 0x3F5DB3D7#32
  | 101 => 0x3E31D0D4#32
  | 102 => 0xBF7C1C5C#32
  | 103 => 0x3F000000#32
  | 104 => 0x3F248DBB#32
  | 105 => 0xBF708FB2#32
  | 106 => 0xA50D3132#32
  | 107 => 0x3F708FB2#32
  | 108 => 0xBF248DBB#32
  | 109 => 0xBF000000#32
  | 110 => 0x3F7C1C5C#32
  | 111 => 0xBE31D0D4#32
  | 112 => 0xBF5DB3D7#32
  | 113 => 0x3F441B7D#32
  | 114 => 0x3EAF1D44#32
  | 115 => 0xBF800000#32
  | 116 => 0x3EAF1D44#32
  | 117 => 0x3F441B7D#32
  | 118 => 0xBF5DB3D7#32
  | 119 => 0xBE31D0D4#32
  | 120 => 0x3F7C1C5C#32
  | 121 => 0xBF000000#32
  | 122 => 0xBF248DBB#32
  | 123 => 0x3F708FB2#32
  | 124 => 0x80000000#32
  | 125 => 0xBF708FB2#32
  | 126 => 0x3F248DBB#32
  | 127 => 0x3F000000#32
  | _ => 0#32

noncomputable abbrev lit1t0_200 (i : Nat) : BitVec 32 := match i % 128 with
  | 0 => 0xBF7C1C5C#32
  | 1 => 0x3E31D0D4#32
  | 2 => 0x3F5DB3D7#32
  | 3 => 0xBF441B7D#32
  | 4 => 0xBEAF1D44#32
  | 5 => 0x3F800000#32
  | 6 => 0xBEAF1D44#32
  | 7 => 0xBF441B7D#32
  | 8 => 0x3F5DB3D7#32
  | 9 => 0x3E31D0D4#32
  | 10 => 0xBF7C1C5C#32
  | 11 => 0x3F000000#32
  | 12 => 0x3F248DBB#32
  | 13 => 0xBF708FB2#32
  | 14 => 0xA50D3132#32
  | 15 => 0x3F708FB2#32
  | 16 => 0xBF248DBB#32
  | 17 => 0xBF000000#32
  | 18 => 0x3F7C1C5C#32
  | 19 => 0xBE31D0D4#32
  | 20 => 0xBF5DB3D7#32
  | 21 => 0x3F441B7D#32
  | 22 => 0x3EAF1D44#32
  | 23 => 0xBF800000#32
  | 24 => 0x3EAF1D44#32
  | 25 => 0x3F441B7D#32
  | 26 => 0xBF5DB3D7#32
  | 27 => 0xBE31D0D4#32
  | 28 => 0x3F7C1C5C#32
  | 29 => 0xBF000000#32
  | 30 => 0xBF248DBB#32
  | 31 => 0x3F708FB2#32
  | 32 => 0x80000000#32
  | 33 => 0xBF6E9811#32
  | 34 => 0x3F2CF37B#32
  | 35 => 0x3EE273AA#32
  | 36 => 0xBF7F069E#32
  | 37 => 0x3E8F45C0#32
  | 38 => 0x3F4B1934#32
  | 39 => 0xBF5ADB81#32
  | 40 => 0xBE31D0D4#32
  | 41 => 0x3F7B14BE#32
  | 42 => 0xBF098C78#32
  | 43 => 0xBF176012#32
  | 44 => 0x3F7746EA#32
  | 45 => 0xBDDEF599#32
  | 46 => 0xBF631324#32
  | 47 => 0x3F407893#32
  | 48 => 0x3EAF1D44#32
  | 49 => 0xBF7FF067#32
  | 50 => 0x3EC3EF15#32
  | 51 => 0x3F38ECD8#32
  | 52 => 0xBF6803CA#32
  | 53 => 0xBD85F213#32
  | 54 => 0x3F7426CB#32
  | 55 => 0xBF203C85#32
  | 56 => 0xBF000000#32
  | 57 => 0x3F7D0543#32
  | 58 => 0xBE5DA259#32
  | 59 => 0xBF54DB31#32
  | 60 => 0x3F51B3F3#32
  | 61 => 0x3E7363EE#32
  | 62 => 0xBF7DCF55#32
  | 63 => 0x3EF64429#32
  | 64 => 0x3F248DBB#32
  | 65 => 0xBF726A03#32
  | 66 => 0x3D32AA3E#32
  | 67 => 0x3F6A51DA#32
  | 68 => 0xBF3504F3#32
  | 69 => 0xBECE34D0#32
  | 70 => 0x3F7FC1A0#32
  | 71 => 0xBEA493B7#32
  | 72 => 0xBF441B7D#32
  | 73 => 0x3F60712A#32
  | 74 => 0x3E05A8A8#32
  | 75 => 0xBF78A9E0#32
  | 76 => 0x3F12D5E8#32
  | 77 => 0x3F0E39DA#32
  | 78 => 0xBF79EE89#32
  | 79 => 0x3E1BC63C#32
  | 80 => 0x3F5DB3D7#32
  | 81 => 0xBF47A682#32
  | 82 => 0xBE99F61C#32
  | 83 => 0x3F7F73AF#32
  | 84 => 0xBED8616C#32
  | 85 => 0xBF310700#32
  | 86 => 0x3F6C835E#32
  | 87 => 0x3CB2B521#32
  | 88 => 0xBF708FB2#32
  | 89 => 0x3F28CAE3#32
  | 90 => 0x3EEC6A50#32
  | 91 => 0xBF7E7A7A#32
  | 92 => 0x3E8483EE#32
  | 93 => 0x3F4E7327#32
  | 94 => 0xBF57E880#32
  | 95 => 0xBE47C5C2#32
  | 96 => 0x3F7C1C5C#32
  | 97 => 0xBF04CE53#32
  | 98 => 0xBF1BD7CA#32
  | 99 => 0x3F75C5D4#32
  | 100 => 0xBDB27EB6#32
  | 101 => 0xBF659974#32
  | 102 => 0x3F3CBE35#32
  | 103 => 0x3EB9917B#32
  | 104 => 0xBF800000#32
  | 105 => 0x3EB9917B#32
  | 106 => 0x3F3CBE35#32
  | 107 => 0xBF659974#32
  | 108 => 0xBDB27EB6#32
  | 109 => 0x3F75C5D4#32
  | 110 => 0xBF1BD7CA#32
  | 111 => 0xBF04CE53#32
  | 112 => 0x3F7C1C5C#32
  | 113 => 0xBE47C5C2#32
  | 114 => 0xBF57E880#32
  | 115 => 0x3F4E7327#32
  | 116 => 0x3E8483EE#32
  | 117 => 0xBF7E7A7A#32
  | 118 => 0x3EEC6A50#32
  | 119 => 0x3F28CAE3#32
  | 120 => 0xBF708FB2#32
  | 121 => 0x3CB2B521#32
  | 122 => 0x3F6C835E#32
  | 123 => 0xBF310700#32
  | 124 => 0xBED8616C#32
  | 125 => 0x3F7F73AF#32
  | 126 => 0xBE99F61C#32
  | 127 => 0xBF47A682#32
  | _ => 0#32

noncomputable abbrev lit1t0_201 (i : Nat) : BitVec 32 := match i % 128 with
  | 0 => 0x3F5DB3D7#32
  | 1 => 0x3E1BC63C#32
  | 2 => 0xBF79EE89#32
  | 3 => 0x3F0E39DA#32
  | 4 => 0x3F12D5E8#32
  | 5 => 0xBF78A9E0#32
  | 6 => 0x3E05A8A8#32
  | 7 => 0x3F60712A#32
  | 8 => 0xBF441B7D#32
  | 9 => 0xBEA493B7#32
  | 10 => 0x3F7FC1A0#32
  | 11 => 0xBECE34D0#32
  | 12 => 0xBF3504F3#32
  | 13 => 0x3F6A51DA#32
  | 14 => 0x3D32AA3E#32
  | 15 => 0xBF726A03#32
  | 16 => 0x3F248DBB#32
  | 17 => 0x3EF64429#32
  | 18 => 0xBF7DCF55#32
  | 19 => 0x3E7363EE#32
  | 20 => 0x3F51B3F3#32
  | 21 => 0xBF54DB31#32
  | 22 => 0xBE5DA259#32
  | 23 => 0x3F7D0543#32
  | 24 => 0xBF000000#32
  | 25 => 0xBF203C85#32
  | 26 => 0x3F7426CB#32
  | 27 => 0xBD85F213#32
  | 28 => 0xBF6803CA#32
  | 29 => 0x3F38ECD8#32
  | 30 => 0x3EC3EF15#32
  | 31 => 0xBF7FF067#32
  | 32 => 0x3EAF1D44#32
  | 33 => 0x3F407893#32
  | 34 => 0xBF631324#32
  | 35 => 0xBDDEF599#32
  | 36 => 0x3F7746EA#32
  | 37 => 0xBF176012#32
  | 38 => 0xBF098C78#32
  | 39 => 0x3F7B14BE#32
  | 40 => 0xBE31D0D4#32
  | 41 => 0xBF5ADB81#32
  | 42 => 0x3F4B1934#32
  | 43 => 0x3E8F45C0#32
  | 44 => 0xBF7F069E#32
  | 45 => 0x3EE273AA#32
  | 46 => 0x3F2CF37B#32
  | 47 => 0xBF6E9811#32
  | 48 => 0xA50D3132#32
  | 49 => 0x3F6E9811#32
  | 50 => 0xBF2CF37B#32
  | 51 => 0xBEE273AA#32
  | 52 => 0x3F7F069E#32
  | 53 => 0xBE8F45C0#32
  | 54 => 0xBF4B1934#32
  | 55 => 0x3F5ADB81#32
  | 56 => 0x3E31D0D4#32
  | 57 => 0xBF7B14BE#32
  | 58 => 0x3F098C78#32
  | 59 => 0x3F176012#32
  | 60 => 0xBF7746EA#32
  | 61 => 0x3DDEF599#32
  | 62 => 0x3F631324#32
  | 63 => 0xBF407893#32
  | 64 => 0xBEAF1D44#32
  | 65 => 0x3F7FF067#32
  | 66 => 0xBEC3EF15#32
  | 67 => 0xBF38ECD8#32
  | 68 => 0x3F6803CA#32
  | 69 => 0x3D85F213#32
  | 70 => 0xBF7426CB#32
  | 71 => 0x3F203C85#32
  | 72 => 0x3F000000#32
  | 73 => 0xBF7D0543#32
  | 74 => 0x3E5DA259#32
  | 75 => 0x3F54DB31#32
  | 76 => 0xBF51B3F3#32
  | 77 => 0xBE7363EE#32
  | 78 => 0x3F7DCF55#32
  | 79 => 0xBEF64429#32
  | 80 => 0xBF248DBB#32
  | 81 => 0x3F726A03#32
  | 82 => 0xBD32AA3E#32
  | 83 => 0xBF6A51DA#32
  | 84 => 0x3F3504F3#32
  | 85 => 0x3ECE34D0#32
  | 86 => 0xBF7FC1A0#32
  | 87 => 0x3EA493B7#32
  | 88 => 0x3F441B7D#32
  | 89 => 0xBF60712A#32
  | 90 => 0xBE05A8A8#32
  | 91 => 0x3F78A9E0#32
  | 92 => 0xBF12D5E8#32
  | 93 => 0xBF0E39DA#32
  | 94 => 0x3F79EE89#32
  | 95 => 0xBE1BC63C#32
  | 96 => 0xBF5DB3D7#32
  | 97 => 0x3F47A682#32
  | 98 => 0x3E99F61C#32
  | 99 => 0xBF7F73AF#32
  | 100 => 0x3ED8616C#32
  | 101 => 0x3F310700#32
  | 102 => 0xBF6C835E#32
  | 103 => 0xBCB2B521#32
  | 104 => 0x3F708FB2#32
  | 105 => 0xBF28CAE3#32
  | 106 => 0xBEEC6A50#32
  | 107 => 0x3F7E7A7A#32
  | 108 => 0xBE8483EE#32
  | 109 => 0xBF4E7327#32
  | 110 => 0x3F57E880#32
  | 111 => 0x3E47C5C2#32
  | 112 => 0xBF7C1C5C#32
  | 113 => 0x3F04CE53#32
  | 114 => 0x3F1BD7CA#32
  | 115 => 0xBF75C5D4#32
  | 116 => 0x3DB27EB6#32
  | 117 => 0x3F659974#32
  | 118 => 0xBF3CBE35#32
  | 119 => 0xBEB9917B#32
  | 120 => 0x3F800000#32
  | 121 => 0xBEB9917B#32
  | 122 => 0xBF3CBE35#32
  | 123 => 0x3F659974#32
  | 124 => 0x3DB27EB6#32
  | 125 => 0xBF75C5D4#32
  | 126 => 0x3F1BD7CA#32
  | 127 => 0x3F04CE53#32
  | _ => 0#32

noncomputable abbrev lit1t0_202 (i : Nat) : BitVec 32 := match i % 128 with
  | 0 => 0xBF7C1C5C#32
  | 1 => 0x3E47C5C2#32
  | 2 => 0x3F57E880#32
  | 3 => 0xBF4E7327#32
  | 4 => 0xBE8483EE#32
  | 5 => 0x3F7E7A7A#32
  | 6 => 0xBEEC6A50#32
  | 7 => 0xBF28CAE3#32
  | 8 => 0x3F708FB2#32
  | 9 => 0xBCB2B521#32
  | 10 => 0xBF6C835E#32
  | 11 => 0x3F310700#32
  | 12 => 0x3ED8616C#32
  | 13 => 0xBF7F73AF#32
  | 14 => 0x3E99F61C#32
  | 15 => 0x3F47A682#32
  | 16 => 0xBF5DB3D7#32
  | 17 => 0xBE1BC63C#32
  | 18 => 0x3F79EE89#32
  | 19 => 0xBF0E39DA#32
  | 20 => 0xBF12D5E8#32
  | 21 => 0x3F78A9E0#32
  | 22 => 0xBE05A8A8#32
  | 23 => 0xBF60712A#32
  | 24 => 0x3F441B7D#32
  | 25 => 0x3EA493B7#32
  | 26 => 0xBF7FC1A0#32
  | 27 => 0x3ECE34D0#32
  | 28 => 0x3F3504F3#32
  | 29 => 0xBF6A51DA#32
  | 30 => 0xBD32AA3E#32
  | 31 => 0x3F726A03#32
  | 32 => 0xBF248DBB#32
  | 33 => 0xBEF64429#32
  | 34 => 0x3F7DCF55#32
  | 35 => 0xBE7363EE#32
  | 36 => 0xBF51B3F3#32
  | 37 => 0x3F54DB31#32
  | 38 => 0x3E5DA259#32
  | 39 => 0xBF7D0543#32
  | 40 => 0x3F000000#32
  | 41 => 0x3F203C85#32
  | 42 => 0xBF7426CB#32
  | 43 => 0x3D85F213#32
  | 44 => 0x3F6803CA#32
  | 45 => 0xBF38ECD8#32
  | 46 => 0xBEC3EF15#32
  | 47 => 0x3F7FF067#32
  | 48 => 0xBEAF1D44#32
  | 49 => 0xBF407893#32
  | 50 => 0x3F631324#32
  | 51 => 0x3DDEF599#32
  | 52 => 0xBF7746EA#32
  | 53 => 0x3F176012#32
  | 54 => 0x3F098C78#32
  | 55 => 0xBF7B14BE#32
  | 56 => 0x3E31D0D4#32
  | 57 => 0x3F5ADB81#32
  | 58 => 0xBF4B1934#32
  | 59 => 0xBE8F45C0#32
  | 60 => 0x3F7F069E#32
  | 61 => 0xBEE273AA#32
  | 62 => 0xBF2CF37B#32
  | 63 => 0x3F6E9811#32
  | 64 => 0x80000000#32
  | 65 => 0xBF6C835E#32
  | 66 => 0x3F3504F3#32
  | 67 => 0x3EC3EF15#32
  | 68 => 0xBF800000#32
  | 69 => 0x3EC3EF15#32
  | 70 => 0x3F3504F3#32
  | 71 => 0xBF6C835E#32
  | 72 => 0xA50D3132#32
  | 73 => 0x3F6C835E#32
  | 74 => 0xBF3504F3#32
  | 75 => 0xBEC3EF15#32
  | 76 => 0x3F800000#32
  | 77 => 0xBEC3EF15#32
  | 78 => 0xBF3504F3#32
  | 79 => 0x3F6C835E#32
  | 80 => 0x80000000#32
  | 81 => 0xBF6C835E#32
  | 82 => 0x3F3504F3#32
  | 83 => 0x3EC3EF15#32
  | 84 => 0xBF800000#32
  | 85 => 0x3EC3EF15#32
  | 86 => 0x3F3504F3#32
  | 87 => 0xBF6C835E#32
  | 88 => 0xA50D3132#32
  | 89 => 0x3F6C835E#32
  | 90 => 0xBF3504F3#32
  | 91 => 0xBEC3EF15#32
  | 92 => 0x3F800000#32
  | 93 => 0xBEC3EF15#32
  | 94 => 0xBF3504F3#32
  | 95 => 0x3F6C835E#32
  | 96 => 0x80000000#32
  | 97 => 0xBF6C835E#32
  | 98 => 0x3F3504F3#32
  | 99 => 0x3EC3EF15#32
  | 100 => 0xBF800000#32
  | 101 => 0x3EC3EF15#32
  | 102 => 0x3F3504F3#32
  | 103 => 0xBF6C835E#32
  | 104 => 0xA50D3132#32
  | 105 => 0x3F6C835E#32
  | 106 => 0xBF3504F3#32
  | 107 => 0xBEC3EF15#32
  | 108 => 0x3F800000#32
  | 109 => 0xBEC3EF15#32
  | 110 => 0xBF3504F3#32
  | 111 => 0x3F6C835E#32
  | 112 => 0x80000000#32
  | 113 => 0xBF6C835E#32
  | 114 => 0x3F3504F3#32
  | 115 => 0x3EC3EF15#32
  | 116 => 0xBF800000#32
  | 117 => 0x3EC3EF15#32
  | 118 => 0x3F3504F3#32
  | 119 => 0xBF6C835E#32
  | 120 => 0xA50D3132#32
  | 121 => 0x3F6C835E#32
  | 122 => 0xBF3504F3#32
  | 123 => 0xBEC3EF15#32
  | 124 => 0x3F800000#32
  | 125 => 0xBEC3EF15#32
  | 126 => 0xBF3504F3#32
  | 127 => 0x3F6C835E#32
  | _ => 0#32

noncomputable abbrev lit1t0_203 (i : Nat) : BitVec 32 := match i % 128 with
  | 0 => 0x80000000#32
  | 1 => 0xBF6C835E#32
  | 2 => 0x3F3504F3#32
  | 3 => 0x3EC3EF15#32
  | 4 => 0xBF800000#32
  | 5 => 0x3EC3EF15#32
  | 6 => 0x3F3504F3#32
  | 7 => 0xBF6C835E#32
  | 8 => 0xA50D3132#32
  | 9 => 0x3F6C835E#32
  | 10 => 0xBF3504F3#32
  | 11 => 0xBEC3EF15#32
  | 12 => 0x3F800000#32
  | 13 => 0xBEC3EF15#32
  | 14 => 0xBF3504F3#32
  | 15 => 0x3F6C835E#32
  | 16 => 0x80000000#32
  | 17 => 0xBF6C835E#32
  | 18 => 0x3F3504F3#32
  | 19 => 0x3EC3EF15#32
  | 20 => 0xBF800000#32
  | 21 => 0x3EC3EF15#32
  | 22 => 0x3F3504F3#32
  | 23 => 0xBF6C835E#32
  | 24 => 0xA50D3132#32
  | 25 => 0x3F6C835E#32
  | 26 => 0xBF3504F3#32
  | 27 => 0xBEC3EF15#32
  | 28 => 0x3F800000#32
  | 29 => 0xBEC3EF15#32
  | 30 => 0xBF3504F3#32
  | 31 => 0x3F6C835E#32
  | 32 => 0x80000000#32
  | 33 => 0xBF6C835E#32
  | 34 => 0x3F3504F3#32
  | 35 => 0x3EC3EF15#32
  | 36 => 0xBF800000#32
  | 37 => 0x3EC3EF15#32
  | 38 => 0x3F3504F3#32
  | 39 => 0xBF6C835E#32
  | 40 => 0xA50D3132#32
  | 41 => 0x3F6C835E#32
  | 42 => 0xBF3504F3#32
  | 43 => 0xBEC3EF15#32
  | 44 => 0x3F800000#32
  | 45 => 0xBEC3EF15#32
  | 46 => 0xBF3504F3#32
  | 47 => 0x3F6C835E#32
  | 48 => 0x80000000#32
  | 49 => 0xBF6C835E#32
  | 50 => 0x3F3504F3#32
  | 51 => 0x3EC3EF15#32
  | 52 => 0xBF800000#32
  | 53 => 0x3EC3EF15#32
  | 54 => 0x3F3504F3#32
  | 55 => 0xBF6C835E#32
  | 56 => 0xA50D3132#32
  | 57 => 0x3F6C835E#32
  | 58 => 0xBF3504F3#32
  | 59 => 0xBEC3EF15#32
  | 60 => 0x3F800000#32
  | 61 => 0xBEC3EF15#32
  | 62 => 0xBF3504F3#32
  | 63 => 0x3F6C835E#32
  | 64 => 0x80000000#32
  | 65 => 0xBF6C835E#32
  | 66 => 0x3F3504F3#32
  | 67 => 0x3EC3EF15#32
  | 68 => 0xBF800000#32
  | 69 => 0x3EC3EF15#32
  | 70 => 0x3F3504F3#32
  | 71 => 0xBF6C835E#32
  | 72 => 0xA50D3132#32
  | 73 => 0x3F6C835E#32
  | 74 => 0xBF3504F3#32
  | 75 => 0xBEC3EF15#32
  | 76 => 0x3F800000#32
  | 77 => 0xBEC3EF15#32
  | 78 => 0xBF3504F3#32
  | 79 => 0x3F6C835E#32
  | 80 => 0x80000000#32
  | 81 => 0xBF6C835E#32
  | 82 => 0x3F3504F3#32
  | 83 => 0x3EC3EF15#32
  | 84 => 0xBF800000#32
  | 85 => 0x3EC3EF15#32
  | 86 => 0x3F3504F3#32
  | 87 => 0xBF6C835E#32
  | 88 => 0xA50D3132#32
  | 89 => 0x3F6C835E#32
  | 90 => 0xBF3504F3#32
  | 91 => 0xBEC3EF15#32
  | 92 => 0x3F800000#32
  | 93 => 0xBEC3EF15#32
  | 94 => 0xBF3504F3#32
  | 95 => 0x3F6C835E#32
  | 96 => 0x80000000#32
  | 97 => 0xBF6C835E#32
  | 98 => 0x3F3504F3#32
  | 99 => 0x3EC3EF15#32
  | 100 => 0xBF800000#32
  | 101 => 0x3EC3EF15#32
  | 102 => 0x3F3504F3#32
  | 103 => 0xBF6C835E#32
  | 104 => 0xA50D3132#32
  | 105 => 0x3F6C835E#32
  | 106 => 0xBF3504F3#32
  | 107 => 0xBEC3EF15#32
  | 108 => 0x3F800000#32
  | 109 => 0xBEC3EF15#32
  | 110 => 0xBF3504F3#32
  | 111 => 0x3F6C835E#32
  | 112 => 0x80000000#32
  | 113 => 0xBF6C835E#32
  | 114 => 0x3F3504F3#32
  | 115 => 0x3EC3EF15#32
  | 116 => 0xBF800000#32
  | 117 => 0x3EC3EF15#32
  | 118 => 0x3F3504F3#32
  | 119 => 0xBF6C835E#32
  | 120 => 0xA50D3132#32
  | 121 => 0x3F6C835E#32
  | 122 => 0xBF3504F3#32
  | 123 => 0xBEC3EF15#32
  | 124 => 0x3F800000#32
  | 125 => 0xBEC3EF15#32
  | 126 => 0xBF3504F3#32
  | 127 => 0x3F6C835E#32
  | _ => 0#32

noncomputable abbrev lit1t0_204 (i : Nat) : BitVec 32 := match i % 128 with
  | 0 => 0x80000000#32
  | 1 => 0xBF6C835E#32
  | 2 => 0x3F3504F3#32
  | 3 => 0x3EC3EF15#32
  | 4 => 0xBF800000#32
  | 5 => 0x3EC3EF15#32
  | 6 => 0x3F3504F3#32
  | 7 => 0xBF6C835E#32
  | 8 => 0xA50D3132#32
  | 9 => 0x3F6C835E#32
  | 10 => 0xBF3504F3#32
  | 11 => 0xBEC3EF15#32
  | 12 => 0x3F800000#32
  | 13 => 0xBEC3EF15#32
  | 14 => 0xBF3504F3#32
  | 15 => 0x3F6C835E#32
  | 16 => 0x80000000#32
  | 17 => 0xBF6C835E#32
  | 18 => 0x3F3504F3#32
  | 19 => 0x3EC3EF15#32
  | 20 => 0xBF800000#32
  | 21 => 0x3EC3EF15#32
  | 22 => 0x3F3504F3#32
  | 23 => 0xBF6C835E#32
  | 24 => 0xA50D3132#32
  | 25 => 0x3F6C835E#32
  | 26 => 0xBF3504F3#32
  | 27 => 0xBEC3EF15#32
  | 28 => 0x3F800000#32
  | 29 => 0xBEC3EF15#32
  | 30 => 0xBF3504F3#32
  | 31 => 0x3F6C835E#32
  | 32 => 0x80000000#32
  | 33 => 0xBF6C835E#32
  | 34 => 0x3F3504F3#32
  | 35 => 0x3EC3EF15#32
  | 36 => 0xBF800000#32
  | 37 => 0x3EC3EF15#32
  | 38 => 0x3F3504F3#32
  | 39 => 0xBF6C835E#32
  | 40 => 0xA50D3132#32
  | 41 => 0x3F6C835E#32
  | 42 => 0xBF3504F3#32
  | 43 => 0xBEC3EF15#32
  | 44 => 0x3F800000#32
  | 45 => 0xBEC3EF15#32
  | 46 => 0xBF3504F3#32
  | 47 => 0x3F6C835E#32
  | 48 => 0x80000000#32
  | 49 => 0xBF6C835E#32
  | 50 => 0x3F3504F3#32
  | 51 => 0x3EC3EF15#32
  | 52 => 0xBF800000#32
  | 53 => 0x3EC3EF15#32
  | 54 => 0x3F3504F3#32
  | 55 => 0xBF6C835E#32
  | 56 => 0xA50D3132#32
  | 57 => 0x3F6C835E#32
  | 58 => 0xBF3504F3#32
  | 59 => 0xBEC3EF15#32
  | 60 => 0x3F800000#32
  | 61 => 0xBEC3EF15#32
  | 62 => 0xBF3504F3#32
  | 63 => 0x3F6C835E#32
  | 64 => 0x80000000#32
  | 65 => 0xBF6C835E#32
  | 66 => 0x3F3504F3#32
  | 67 => 0x3EC3EF15#32
  | 68 => 0xBF800000#32
  | 69 => 0x3EC3EF15#32
  | 70 => 0x3F3504F3#32
  | 71 => 0xBF6C835E#32
  | 72 => 0xA50D3132#32
  | 73 => 0x3F6C835E#32
  | 74 => 0xBF3504F3#32
  | 75 => 0xBEC3EF15#32
  | 76 => 0x3F800000#32
  | 77 => 0xBEC3EF15#32
  | 78 => 0xBF3504F3#32
  | 79 => 0x3F6C835E#32
  | 80 => 0x80000000#32
  | 81 => 0xBF6C835E#32
  | 82 => 0x3F3504F3#32
  | 83 => 0x3EC3EF15#32
  | 84 => 0xBF800000#32
  | 85 => 0x3EC3EF15#32
  | 86 => 0x3F3504F3#32
  | 87 => 0xBF6C835E#32
  | 88 => 0xA50D3132#32
  | 89 => 0x3F6C835E#32
  | 90 => 0xBF3504F3#32
  | 91 => 0xBEC3EF15#32
  | 92 => 0x3F800000#32
  | 93 => 0xBEC3EF15#32
  | 94 => 0xBF3504F3#32
  | 95 => 0x3F6C835E#32
  | 96 => 0x80000000#32
  | 97 => 0xBF6A51DA#32
  | 98 => 0x3F3CBE35#32
  | 99 => 0x3EA493B7#32
  | 100 => 0xBF7F069E#32
  | 101 => 0x3EF64429#32
  | 102 => 0x3F1BD7CA#32
  | 103 => 0xBF78A9E0#32
  | 104 => 0x3E31D0D4#32
  | 105 => 0x3F54DB31#32
  | 106 => 0xBF57E880#32
  | 107 => 0xBE1BC63C#32
  | 108 => 0x3F7746EA#32
  | 109 => 0xBF203C85#32
  | 110 => 0xBEEC6A50#32
  | 111 => 0x3F7F73AF#32
  | 112 => 0xBEAF1D44#32
  | 113 => 0xBF38ECD8#32
  | 114 => 0x3F6C835E#32
  | 115 => 0xBCB2B521#32
  | 116 => 0xBF6803CA#32
  | 117 => 0x3F407893#32
  | 118 => 0x3E99F61C#32
  | 119 => 0xBF7E7A7A#32
  | 120 => 0x3F000000#32
  | 121 => 0x3F176012#32
  | 122 => 0xBF79EE89#32
  | 123 => 0x3E47C5C2#32
  | 124 => 0x3F51B3F3#32
  | 125 => 0xBF5ADB81#32
  | 126 => 0xBE05A8A8#32
  | 127 => 0x3F75C5D4#32
  | _ => 0#32

noncomputable abbrev lit1t0_205 (i : Nat) : BitVec 32 := match i % 128 with
  | 0 => 0xBF248DBB#32
  | 1 => 0xBEE273AA#32
  | 2 => 0x3F7FC1A0#32
  | 3 => 0xBEB9917B#32
  | 4 => 0xBF3504F3#32
  | 5 => 0x3F6E9811#32
  | 6 => 0xBD32AA3E#32
  | 7 => 0xBF659974#32
  | 8 => 0x3F441B7D#32
  | 9 => 0x3E8F45C0#32
  | 10 => 0xBF7DCF55#32
  | 11 => 0x3F04CE53#32
  | 12 => 0x3F12D5E8#32
  | 13 => 0xBF7B14BE#32
  | 14 => 0x3E5DA259#32
  | 15 => 0x3F4E7327#32
  | 16 => 0xBF5DB3D7#32
  | 17 => 0xBDDEF599#32
  | 18 => 0x3F7426CB#32
  | 19 => 0xBF28CAE3#32
  | 20 => 0xBED8616C#32
  | 21 => 0x3F7FF067#32
  | 22 => 0xBEC3EF15#32
  | 23 => 0xBF310700#32
  | 24 => 0x3F708FB2#32
  | 25 => 0xBD85F213#32
  | 26 => 0xBF631324#32
  | 27 => 0x3F47A682#32
  | 28 => 0x3E8483EE#32
  | 29 => 0xBF7D0543#32
  | 30 => 0x3F098C78#32
  | 31 => 0x3F0E39DA#32
  | 32 => 0xBF7C1C5C#32
  | 33 => 0x3E7363EE#32
  | 34 => 0x3F4B1934#32
  | 35 => 0xBF60712A#32
  | 36 => 0xBDB27EB6#32
  | 37 => 0x3F726A03#32
  | 38 => 0xBF2CF37B#32
  | 39 => 0xBECE34D0#32
  | 40 => 0x3F800000#32
  | 41 => 0xBECE34D0#32
  | 42 => 0xBF2CF37B#32
  | 43 => 0x3F726A03#32
  | 44 => 0xBDB27EB6#32
  | 45 => 0xBF60712A#32
  | 46 => 0x3F4B1934#32
  | 47 => 0x3E7363EE#32
  | 48 => 0xBF7C1C5C#32
  | 49 => 0x3F0E39DA#32
  | 50 => 0x3F098C78#32
  | 51 => 0xBF7D0543#32
  | 52 => 0x3E8483EE#32
  | 53 => 0x3F47A682#32
  | 54 => 0xBF631324#32
  | 55 => 0xBD85F213#32
  | 56 => 0x3F708FB2#32
  | 57 => 0xBF310700#32
  | 58 => 0xBEC3EF15#32
  | 59 => 0x3F7FF067#32
  | 60 => 0xBED8616C#32
  | 61 => 0xBF28CAE3#32
  | 62 => 0x3F7426CB#32
  | 63 => 0xBDDEF599#32
  | 64 => 0xBF5DB3D7#32
  | 65 => 0x3F4E7327#32
  | 66 => 0x3E5DA259#32
  | 67 => 0xBF7B14BE#32
  | 68 => 0x3F12D5E8#32
  | 69 => 0x3F04CE53#32
  | 70 => 0xBF7DCF55#32
  | 71 => 0x3E8F45C0#32
  | 72 => 0x3F441B7D#32
  | 73 => 0xBF659974#32
  | 74 => 0xBD32AA3E#32
  | 75 => 0x3F6E9811#32
  | 76 => 0xBF3504F3#32
  | 77 => 0xBEB9917B#32
  | 78 => 0x3F7FC1A0#32
  | 79 => 0xBEE273AA#32
  | 80 => 0xBF248DBB#32
  | 81 => 0x3F75C5D4#32
  | 82 => 0xBE05A8A8#32
  | 83 => 0xBF5ADB81#32
  | 84 => 0x3F51B3F3#32
  | 85 => 0x3E47C5C2#32
  | 86 => 0xBF79EE89#32
  | 87 => 0x3F176012#32
  | 88 => 0x3F000000#32
  | 89 => 0xBF7E7A7A#32
  | 90 => 0x3E99F61C#32
  | 91 => 0x3F407893#32
  | 92 => 0xBF6803CA#32
  | 93 => 0xBCB2B521#32
  | 94 => 0x3F6C835E#32
  | 95 => 0xBF38ECD8#32
  | 96 => 0xBEAF1D44#32
  | 97 => 0x3F7F73AF#32
  | 98 => 0xBEEC6A50#32
  | 99 => 0xBF203C85#32
  | 100 => 0x3F7746EA#32
  | 101 => 0xBE1BC63C#32
  | 102 => 0xBF57E880#32
  | 103 => 0x3F54DB31#32
  | 104 => 0x3E31D0D4#32
  | 105 => 0xBF78A9E0#32
  | 106 => 0x3F1BD7CA#32
  | 107 => 0x3EF64429#32
  | 108 => 0xBF7F069E#32
  | 109 => 0x3EA493B7#32
  | 110 => 0x3F3CBE35#32
  | 111 => 0xBF6A51DA#32
  | 112 => 0xA50D3132#32
  | 113 => 0x3F6A51DA#32
  | 114 => 0xBF3CBE35#32
  | 115 => 0xBEA493B7#32
  | 116 => 0x3F7F069E#32
  | 117 => 0xBEF64429#32
  | 118 => 0xBF1BD7CA#32
  | 119 => 0x3F78A9E0#32
  | 120 => 0xBE31D0D4#32
  | 121 => 0xBF54DB31#32
  | 122 => 0x3F57E880#32
  | 123 => 0x3E1BC63C#32
  | 124 => 0xBF7746EA#32
  | 125 => 0x3F203C85#32
  | 126 => 0x3EEC6A50#32
  | 127 => 0xBF7F73AF#32
  | _ => 0#32

noncomputable abbrev lit1t0_206 (i : Nat) : BitVec 32 := match i % 128 with
  | 0 => 0x3EAF1D44#32
  | 1 => 0x3F38ECD8#32
  | 2 => 0xBF6C835E#32
  | 3 => 0x3CB2B521#32
  | 4 => 0x3F6803CA#32
  | 5 => 0xBF407893#32
  | 6 => 0xBE99F61C#32
  | 7 => 0x3F7E7A7A#32
  | 8 => 0xBF000000#32
  | 9 => 0xBF176012#32
  | 10 => 0x3F79EE89#32
  | 11 => 0xBE47C5C2#32
  | 12 => 0xBF51B3F3#32
  | 13 => 0x3F5ADB81#32
  | 14 => 0x3E05A8A8#32
  | 15 => 0xBF75C5D4#32
  | 16 => 0x3F248DBB#32
  | 17 => 0x3EE273AA#32
  | 18 => 0xBF7FC1A0#32
  | 19 => 0x3EB9917B#32
  | 20 => 0x3F3504F3#32
  | 21 => 0xBF6E9811#32
  | 22 => 0x3D32AA3E#32
  | 23 => 0x3F659974#32
  | 24 => 0xBF441B7D#32
  | 25 => 0xBE8F45C0#32
  | 26 => 0x3F7DCF55#32
  | 27 => 0xBF04CE53#32
  | 28 => 0xBF12D5E8#32
  | 29 => 0x3F7B14BE#32
  | 30 => 0xBE5DA259#32
  | 31 => 0xBF4E7327#32
  | 32 => 0x3F5DB3D7#32
  | 33 => 0x3DDEF599#32
  | 34 => 0xBF7426CB#32
  | 35 => 0x3F28CAE3#32
  | 36 => 0x3ED8616C#32
  | 37 => 0xBF7FF067#32
  | 38 => 0x3EC3EF15#32
  | 39 => 0x3F310700#32
  | 40 => 0xBF708FB2#32
  | 41 => 0x3D85F213#32
  | 42 => 0x3F631324#32
  | 43 => 0xBF47A682#32
  | 44 => 0xBE8483EE#32
  | 45 => 0x3F7D0543#32
  | 46 => 0xBF098C78#32
  | 47 => 0xBF0E39DA#32
  | 48 => 0x3F7C1C5C#32
  | 49 => 0xBE7363EE#32
  | 50 => 0xBF4B1934#32
  | 51 => 0x3F60712A#32
  | 52 => 0x3DB27EB6#32
  | 53 => 0xBF726A03#32
  | 54 => 0x3F2CF37B#32
  | 55 => 0x3ECE34D0#32
  | 56 => 0xBF800000#32
  | 57 => 0x3ECE34D0#32
  | 58 => 0x3F2CF37B#32
  | 59 => 0xBF726A03#32
  | 60 => 0x3DB27EB6#32
  | 61 => 0x3F60712A#32
  | 62 => 0xBF4B1934#32
  | 63 => 0xBE7363EE#32
  | 64 => 0x3F7C1C5C#32
  | 65 => 0xBF0E39DA#32
  | 66 => 0xBF098C78#32
  | 67 => 0x3F7D0543#32
  | 68 => 0xBE8483EE#32
  | 69 => 0xBF47A682#32
  | 70 => 0x3F631324#32
  | 71 => 0x3D85F213#32
  | 72 => 0xBF708FB2#32
  | 73 => 0x3F310700#32
  | 74 => 0x3EC3EF15#32
  | 75 => 0xBF7FF067#32
  | 76 => 0x3ED8616C#32
  | 77 => 0x3F28CAE3#32
  | 78 => 0xBF7426CB#32
  | 79 => 0x3DDEF599#32
  | 80 => 0x3F5DB3D7#32
  | 81 => 0xBF4E7327#32
  | 82 => 0xBE5DA259#32
  | 83 => 0x3F7B14BE#32
  | 84 => 0xBF12D5E8#32
  | 85 => 0xBF04CE53#32
  | 86 => 0x3F7DCF55#32
  | 87 => 0xBE8F45C0#32
  | 88 => 0xBF441B7D#32
  | 89 => 0x3F659974#32
  | 90 => 0x3D32AA3E#32
  | 91 => 0xBF6E9811#32
  | 92 => 0x3F3504F3#32
  | 93 => 0x3EB9917B#32
  | 94 => 0xBF7FC1A0#32
  | 95 => 0x3EE273AA#32
  | 96 => 0x3F248DBB#32
  | 97 => 0xBF75C5D4#32
  | 98 => 0x3E05A8A8#32
  | 99 => 0x3F5ADB81#32
  | 100 => 0xBF51B3F3#32
  | 101 => 0xBE47C5C2#32
  | 102 => 0x3F79EE89#32
  | 103 => 0xBF176012#32
  | 104 => 0xBF000000#32
  | 105 => 0x3F7E7A7A#32
  | 106 => 0xBE99F61C#32
  | 107 => 0xBF407893#32
  | 108 => 0x3F6803CA#32
  | 109 => 0x3CB2B521#32
  | 110 => 0xBF6C835E#32
  | 111 => 0x3F38ECD8#32
  | 112 => 0x3EAF1D44#32
  | 113 => 0xBF7F73AF#32
  | 114 => 0x3EEC6A50#32
  | 115 => 0x3F203C85#32
  | 116 => 0xBF7746EA#32
  | 117 => 0x3E1BC63C#32
  | 118 => 0x3F57E880#32
  | 119 => 0xBF54DB31#32
  | 120 => 0xBE31D0D4#32
  | 121 => 0x3F78A9E0#32
  | 122 => 0xBF1BD7CA#32
  | 123 => 0xBEF64429#32
  | 124 => 0x3F7F069E#32
  | 125 => 0xBEA493B7#32
  | 126 => 0xBF3CBE35#32
  | 127 => 0x3F6A51DA#32
  | _ => 0#32

noncomputable abbrev lit1t0_207 (i : Nat) : BitVec 32 := match i % 128 with
  | 0 => 0x80000000#32
  | 1 => 0xBF6803CA#32
  | 2 => 0x3F441B7D#32
  | 3 => 0x3E8483EE#32
  | 4 => 0xBF7C1C5C#32
  | 5 => 0x3F12D5E8#32
  | 6 => 0x3F000000#32
  | 7 => 0xBF7F069E#32
  | 8 => 0x3EAF1D44#32
  | 9 => 0x3F3504F3#32
  | 10 => 0xBF708FB2#32
  | 11 => 0x3DB27EB6#32
  | 12 => 0x3F5DB3D7#32
  | 13 => 0xBF51B3F3#32
  | 14 => 0xBE31D0D4#32
  | 15 => 0x3F7746EA#32
  | 16 => 0xBF248DBB#32
  | 17 => 0xBED8616C#32
  | 18 => 0x3F800000#32
  | 19 => 0xBED8616C#32
  | 20 => 0xBF248DBB#32
  | 21 => 0x3F7746EA#32
  | 22 => 0xBE31D0D4#32
  | 23 => 0xBF51B3F3#32
  | 24 => 0x3F5DB3D7#32
  | 25 => 0x3DB27EB6#32
  | 26 => 0xBF708FB2#32
  | 27 => 0x3F3504F3#32
  | 28 => 0x3EAF1D44#32
  | 29 => 0xBF7F069E#32
  | 30 => 0x3F000000#32
  | 31 => 0x3F12D5E8#32
  | 32 => 0xBF7C1C5C#32
  | 33 => 0x3E8483EE#32
  | 34 => 0x3F441B7D#32
  | 35 => 0xBF6803CA#32
  | 36 => 0xA50D3132#32
  | 37 => 0x3F6803CA#32
  | 38 => 0xBF441B7D#32
  | 39 => 0xBE8483EE#32
  | 40 => 0x3F7C1C5C#32
  | 41 => 0xBF12D5E8#32
  | 42 => 0xBF000000#32
  | 43 => 0x3F7F069E#32
  | 44 => 0xBEAF1D44#32
  | 45 => 0xBF3504F3#32
  | 46 => 0x3F708FB2#32
  | 47 => 0xBDB27EB6#32
  | 48 => 0xBF5DB3D7#32
  | 49 => 0x3F51B3F3#32
  | 50 => 0x3E31D0D4#32
  | 51 => 0xBF7746EA#32
  | 52 => 0x3F248DBB#32
  | 53 => 0x3ED8616C#32
  | 54 => 0xBF800000#32
  | 55 => 0x3ED8616C#32
  | 56 => 0x3F248DBB#32
  | 57 => 0xBF7746EA#32
  | 58 => 0x3E31D0D4#32
  | 59 => 0x3F51B3F3#32
  | 60 => 0xBF5DB3D7#32
  | 61 => 0xBDB27EB6#32
  | 62 => 0x3F708FB2#32
  | 63 => 0xBF3504F3#32
  | 64 => 0xBEAF1D44#32
  | 65 => 0x3F7F069E#32
  | 66 => 0xBF000000#32
  | 67 => 0xBF12D5E8#32
  | 68 => 0x3F7C1C5C#32
  | 69 => 0xBE8483EE#32
  | 70 => 0xBF441B7D#32
  | 71 => 0x3F6803CA#32
  | 72 => 0x80000000#32
  | 73 => 0xBF6803CA#32
  | 74 => 0x3F441B7D#32
  | 75 => 0x3E8483EE#32
  | 76 => 0xBF7C1C5C#32
  | 77 => 0x3F12D5E8#32
  | 78 => 0x3F000000#32
  | 79 => 0xBF7F069E#32
  | 80 => 0x3EAF1D44#32
  | 81 => 0x3F3504F3#32
  | 82 => 0xBF708FB2#32
  | 83 => 0x3DB27EB6#32
  | 84 => 0x3F5DB3D7#32
  | 85 => 0xBF51B3F3#32
  | 86 => 0xBE31D0D4#32
  | 87 => 0x3F7746EA#32
  | 88 => 0xBF248DBB#32
  | 89 => 0xBED8616C#32
  | 90 => 0x3F800000#32
  | 91 => 0xBED8616C#32
  | 92 => 0xBF248DBB#32
  | 93 => 0x3F7746EA#32
  | 94 => 0xBE31D0D4#32
  | 95 => 0xBF51B3F3#32
  | 96 => 0x3F5DB3D7#32
  | 97 => 0x3DB27EB6#32
  | 98 => 0xBF708FB2#32
  | 99 => 0x3F3504F3#32
  | 100 => 0x3EAF1D44#32
  | 101 => 0xBF7F069E#32
  | 102 => 0x3F000000#32
  | 103 => 0x3F12D5E8#32
  | 104 => 0xBF7C1C5C#32
  | 105 => 0x3E8483EE#32
  | 106 => 0x3F441B7D#32
  | 107 => 0xBF6803CA#32
  | 108 => 0xA50D3132#32
  | 109 => 0x3F6803CA#32
  | 110 => 0xBF441B7D#32
  | 111 => 0xBE8483EE#32
  | 112 => 0x3F7C1C5C#32
  | 113 => 0xBF12D5E8#32
  | 114 => 0xBF000000#32
  | 115 => 0x3F7F069E#32
  | 116 => 0xBEAF1D44#32
  | 117 => 0xBF3504F3#32
  | 118 => 0x3F708FB2#32
  | 119 => 0xBDB27EB6#32
  | 120 => 0xBF5DB3D7#32
  | 121 => 0x3F51B3F3#32
  | 122 => 0x3E31D0D4#32
  | 123 => 0xBF7746EA#32
  | 124 => 0x3F248DBB#32
  | 125 => 0x3ED8616C#32
  | 126 => 0xBF800000#32
  | 127 => 0x3ED8616C#32
  | _ => 0#32

noncomputable abbrev lit1t0_208 (i : Nat) : BitVec 32 := match i % 128 with
  | 0 => 0x3F248DBB#32
  | 1 => 0xBF7746EA#32
  | 2 => 0x3E31D0D4#32
  | 3 => 0x3F51B3F3#32
  | 4 => 0xBF5DB3D7#32
  | 5 => 0xBDB27EB6#32
  | 6 => 0x3F708FB2#32
  | 7 => 0xBF3504F3#32
  | 8 => 0xBEAF1D44#32
  | 9 => 0x3F7F069E#32
  | 10 => 0xBF000000#32
  | 11 => 0xBF12D5E8#32
  | 12 => 0x3F7C1C5C#32
  | 13 => 0xBE8483EE#32
  | 14 => 0xBF441B7D#32
  | 15 => 0x3F6803CA#32
  | 16 => 0x80000000#32
  | 17 => 0xBF6803CA#32
  | 18 => 0x3F441B7D#32
  | 19 => 0x3E8483EE#32
  | 20 => 0xBF7C1C5C#32
  | 21 => 0x3F12D5E8#32
  | 22 => 0x3F000000#32
  | 23 => 0xBF7F069E#32
  | 24 => 0x3EAF1D44#32
  | 25 => 0x3F3504F3#32
  | 26 => 0xBF708FB2#32
  | 27 => 0x3DB27EB6#32
  | 28 => 0x3F5DB3D7#32
  | 29 => 0xBF51B3F3#32
  | 30 => 0xBE31D0D4#32
  | 31 => 0x3F7746EA#32
  | 32 => 0xBF248DBB#32
  | 33 => 0xBED8616C#32
  | 34 => 0x3F800000#32
  | 35 => 0xBED8616C#32
  | 36 => 0xBF248DBB#32
  | 37 => 0x3F7746EA#32
  | 38 => 0xBE31D0D4#32
  | 39 => 0xBF51B3F3#32
  | 40 => 0x3F5DB3D7#32
  | 41 => 0x3DB27EB6#32
  | 42 => 0xBF708FB2#32
  | 43 => 0x3F3504F3#32
  | 44 => 0x3EAF1D44#32
  | 45 => 0xBF7F069E#32
  | 46 => 0x3F000000#32
  | 47 => 0x3F12D5E8#32
  | 48 => 0xBF7C1C5C#32
  | 49 => 0x3E8483EE#32
  | 50 => 0x3F441B7D#32
  | 51 => 0xBF6803CA#32
  | 52 => 0xA50D3132#32
  | 53 => 0x3F6803CA#32
  | 54 => 0xBF441B7D#32
  | 55 => 0xBE8483EE#32
  | 56 => 0x3F7C1C5C#32
  | 57 => 0xBF12D5E8#32
  | 58 => 0xBF000000#32
  | 59 => 0x3F7F069E#32
  | 60 => 0xBEAF1D44#32
  | 61 => 0xBF3504F3#32
  | 62 => 0x3F708FB2#32
  | 63 => 0xBDB27EB6#32
  | 64 => 0xBF5DB3D7#32
  | 65 => 0x3F51B3F3#32
  | 66 => 0x3E31D0D4#32
  | 67 => 0xBF7746EA#32
  | 68 => 0x3F248DBB#32
  | 69 => 0x3ED8616C#32
  | 70 => 0xBF800000#32
  | 71 => 0x3ED8616C#32
  | 72 => 0x3F248DBB#32
  | 73 => 0xBF7746EA#32
  | 74 => 0x3E31D0D4#32
  | 75 => 0x3F51B3F3#32
  | 76 => 0xBF5DB3D7#32
  | 77 => 0xBDB27EB6#32
  | 78 => 0x3F708FB2#32
  | 79 => 0xBF3504F3#32
  | 80 => 0xBEAF1D44#32
  | 81 => 0x3F7F069E#32
  | 82 => 0xBF000000#32
  | 83 => 0xBF12D5E8#32
  | 84 => 0x3F7C1C5C#32
  | 85 => 0xBE8483EE#32
  | 86 => 0xBF441B7D#32
  | 87 => 0x3F6803CA#32
  | 88 => 0x80000000#32
  | 89 => 0xBF6803CA#32
  | 90 => 0x3F441B7D#32
  | 91 => 0x3E8483EE#32
  | 92 => 0xBF7C1C5C#32
  | 93 => 0x3F12D5E8#32
  | 94 => 0x3F000000#32
  | 95 => 0xBF7F069E#32
  | 96 => 0x3EAF1D44#32
  | 97 => 0x3F3504F3#32
  | 98 => 0xBF708FB2#32
  | 99 => 0x3DB27EB6#32
  | 100 => 0x3F5DB3D7#32
  | 101 => 0xBF51B3F3#32
  | 102 => 0xBE31D0D4#32
  | 103 => 0x3F7746EA#32
  | 104 => 0xBF248DBB#32
  | 105 => 0xBED8616C#32
  | 106 => 0x3F800000#32
  | 107 => 0xBED8616C#32
  | 108 => 0xBF248DBB#32
  | 109 => 0x3F7746EA#32
  | 110 => 0xBE31D0D4#32
  | 111 => 0xBF51B3F3#32
  | 112 => 0x3F5DB3D7#32
  | 113 => 0x3DB27EB6#32
  | 114 => 0xBF708FB2#32
  | 115 => 0x3F3504F3#32
  | 116 => 0x3EAF1D44#32
  | 117 => 0xBF7F069E#32
  | 118 => 0x3F000000#32
  | 119 => 0x3F12D5E8#32
  | 120 => 0xBF7C1C5C#32
  | 121 => 0x3E8483EE#32
  | 122 => 0x3F441B7D#32
  | 123 => 0xBF6803CA#32
  | 124 => 0xA50D3132#32
  | 125 => 0x3F6803CA#32
  | 126 => 0xBF441B7D#32
  | 127 => 0xBE8483EE#32
  | _ => 0#32

noncomputable abbrev lit1t0_209 (i : Nat) : BitVec 32 := match i % 128 with
  | 0 => 0x3F7C1C5C#32
  | 1 => 0xBF12D5E8#32
  | 2 => 0xBF000000#32
  | 3 => 0x3F7F069E#32
  | 4 => 0xBEAF1D44#32
  | 5 => 0xBF3504F3#32
  | 6 => 0x3F708FB2#32
  | 7 => 0xBDB27EB6#32
  | 8 => 0xBF5DB3D7#32
  | 9 => 0x3F51B3F3#32
  | 10 => 0x3E31D0D4#32
  | 11 => 0xBF7746EA#32
  | 12 => 0x3F248DBB#32
  | 13 => 0x3ED8616C#32
  | 14 => 0xBF800000#32
  | 15 => 0x3ED8616C#32
  | 16 => 0x3F248DBB#32
  | 17 => 0xBF7746EA#32
  | 18 => 0x3E31D0D4#32
  | 19 => 0x3F51B3F3#32
  | 20 => 0xBF5DB3D7#32
  | 21 => 0xBDB27EB6#32
  | 22 => 0x3F708FB2#32
  | 23 => 0xBF3504F3#32
  | 24 => 0xBEAF1D44#32
  | 25 => 0x3F7F069E#32
  | 26 => 0xBF000000#32
  | 27 => 0xBF12D5E8#32
  | 28 => 0x3F7C1C5C#32
  | 29 => 0xBE8483EE#32
  | 30 => 0xBF441B7D#32
  | 31 => 0x3F6803CA#32
  | 32 => 0x80000000#32
  | 33 => 0xBF659974#32
  | 34 => 0x3F4B1934#32
  | 35 => 0x3E47C5C2#32
  | 36 => 0xBF7746EA#32
  | 37 => 0x3F28CAE3#32
  | 38 => 0x3EC3EF15#32
  | 39 => 0xBF7F73AF#32
  | 40 => 0x3F000000#32
  | 41 => 0x3F0E39DA#32
  | 42 => 0xBF7DCF55#32
  | 43 => 0x3EA493B7#32
  | 44 => 0x3F3504F3#32
  | 45 => 0xBF726A03#32
  | 46 => 0x3E05A8A8#32
  | 47 => 0x3F54DB31#32
  | 48 => 0xBF5DB3D7#32
  | 49 => 0xBD85F213#32
  | 50 => 0x3F6C835E#32
  | 51 => 0xBF407893#32
  | 52 => 0xBE8483EE#32
  | 53 => 0x3F7B14BE#32
  | 54 => 0xBF1BD7CA#32
  | 55 => 0xBEE273AA#32
  | 56 => 0x3F800000#32
  | 57 => 0xBEE273AA#32
  | 58 => 0xBF1BD7CA#32
  | 59 => 0x3F7B14BE#32
  | 60 => 0xBE8483EE#32
  | 61 => 0xBF407893#32
  | 62 => 0x3F6C835E#32
  | 63 => 0xBD85F213#32
  | 64 => 0xBF5DB3D7#32
  | 65 => 0x3F54DB31#32
  | 66 => 0x3E05A8A8#32
  | 67 => 0xBF726A03#32
  | 68 => 0x3F3504F3#32
  | 69 => 0x3EA493B7#32
  | 70 => 0xBF7DCF55#32
  | 71 => 0x3F0E39DA#32
  | 72 => 0x3F000000#32
  | 73 => 0xBF7F73AF#32
  | 74 => 0x3EC3EF15#32
  | 75 => 0x3F28CAE3#32
  | 76 => 0xBF7746EA#32
  | 77 => 0x3E47C5C2#32
  | 78 => 0x3F4B1934#32
  | 79 => 0xBF659974#32
  | 80 => 0xA50D3132#32
  | 81 => 0x3F659974#32
  | 82 => 0xBF4B1934#32
  | 83 => 0xBE47C5C2#32
  | 84 => 0x3F7746EA#32
  | 85 => 0xBF28CAE3#32
  | 86 => 0xBEC3EF15#32
  | 87 => 0x3F7F73AF#32
  | 88 => 0xBF000000#32
  | 89 => 0xBF0E39DA#32
  | 90 => 0x3F7DCF55#32
  | 91 => 0xBEA493B7#32
  | 92 => 0xBF3504F3#32
  | 93 => 0x3F726A03#32
  | 94 => 0xBE05A8A8#32
  | 95 => 0xBF54DB31#32
  | 96 => 0x3F5DB3D7#32
  | 97 => 0x3D85F213#32
  | 98 => 0xBF6C835E#32
  | 99 => 0x3F407893#32
  | 100 => 0x3E8483EE#32
  | 101 => 0xBF7B14BE#32
  | 102 => 0x3F1BD7CA#32
  | 103 => 0x3EE273AA#32
  | 104 => 0xBF800000#32
  | 105 => 0x3EE273AA#32
  | 106 => 0x3F1BD7CA#32
  | 107 => 0xBF7B14BE#32
  | 108 => 0x3E8483EE#32
  | 109 => 0x3F407893#32
  | 110 => 0xBF6C835E#32
  | 111 => 0x3D85F213#32
  | 112 => 0x3F5DB3D7#32
  | 113 => 0xBF54DB31#32
  | 114 => 0xBE05A8A8#32
  | 115 => 0x3F726A03#32
  | 116 => 0xBF3504F3#32
  | 117 => 0xBEA493B7#32
  | 118 => 0x3F7DCF55#32
  | 119 => 0xBF0E39DA#32
  | 120 => 0xBF000000#32
  | 121 => 0x3F7F73AF#32
  | 122 => 0xBEC3EF15#32
  | 123 => 0xBF28CAE3#32
  | 124 => 0x3F7746EA#32
  | 125 => 0xBE47C5C2#32
  | 126 => 0xBF4B1934#32
  | 127 => 0x3F659974#32
  | _ => 0#32

noncomputable abbrev lit1t0_210 (i : Nat) : BitVec 32 := match i % 128 with
  | 0 => 0x80000000#32
  | 1 => 0xBF659974#32
  | 2 => 0x3F4B1934#32
  | 3 => 0x3E47C5C2#32
  | 4 => 0xBF7746EA#32
  | 5 => 0x3F28CAE3#32
  | 6 => 0x3EC3EF15#32
  | 7 => 0xBF7F73AF#32
  | 8 => 0x3F000000#32
  | 9 => 0x3F0E39DA#32
  | 10 => 0xBF7DCF55#32
  | 11 => 0x3EA493B7#32
  | 12 => 0x3F3504F3#32
  | 13 => 0xBF726A03#32
  | 14 => 0x3E05A8A8#32
  | 15 => 0x3F54DB31#32
  | 16 => 0xBF5DB3D7#32
  | 17 => 0xBD85F213#32
  | 18 => 0x3F6C835E#32
  | 19 => 0xBF407893#32
  | 20 => 0xBE8483EE#32
  | 21 => 0x3F7B14BE#32
  | 22 => 0xBF1BD7CA#32
  | 23 => 0xBEE273AA#32
  | 24 => 0x3F800000#32
  | 25 => 0xBEE273AA#32
  | 26 => 0xBF1BD7CA#32
  | 27 => 0x3F7B14BE#32
  | 28 => 0xBE8483EE#32
  | 29 => 0xBF407893#32
  | 30 => 0x3F6C835E#32
  | 31 => 0xBD85F213#32
  | 32 => 0xBF5DB3D7#32
  | 33 => 0x3F54DB31#32
  | 34 => 0x3E05A8A8#32
  | 35 => 0xBF726A03#32
  | 36 => 0x3F3504F3#32
  | 37 => 0x3EA493B7#32
  | 38 => 0xBF7DCF55#32
  | 39 => 0x3F0E39DA#32
  | 40 => 0x3F000000#32
  | 41 => 0xBF7F73AF#32
  | 42 => 0x3EC3EF15#32
  | 43 => 0x3F28CAE3#32
  | 44 => 0xBF7746EA#32
  | 45 => 0x3E47C5C2#32
  | 46 => 0x3F4B1934#32
  | 47 => 0xBF659974#32
  | 48 => 0xA50D3132#32
  | 49 => 0x3F659974#32
  | 50 => 0xBF4B1934#32
  | 51 => 0xBE47C5C2#32
  | 52 => 0x3F7746EA#32
  | 53 => 0xBF28CAE3#32
  | 54 => 0xBEC3EF15#32
  | 55 => 0x3F7F73AF#32
  | 56 => 0xBF000000#32
  | 57 => 0xBF0E39DA#32
  | 58 => 0x3F7DCF55#32
  | 59 => 0xBEA493B7#32
  | 60 => 0xBF3504F3#32
  | 61 => 0x3F726A03#32
  | 62 => 0xBE05A8A8#32
  | 63 => 0xBF54DB31#32
  | 64 => 0x3F5DB3D7#32
  | 65 => 0x3D85F213#32
  | 66 => 0xBF6C835E#32
  | 67 => 0x3F407893#32
  | 68 => 0x3E8483EE#32
  | 69 => 0xBF7B14BE#32
  | 70 => 0x3F1BD7CA#32
  | 71 => 0x3EE273AA#32
  | 72 => 0xBF800000#32
  | 73 => 0x3EE273AA#32
  | 74 => 0x3F1BD7CA#32
  | 75 => 0xBF7B14BE#32
  | 76 => 0x3E8483EE#32
  | 77 => 0x3F407893#32
  | 78 => 0xBF6C835E#32
  | 79 => 0x3D85F213#32
  | 80 => 0x3F5DB3D7#32
  | 81 => 0xBF54DB31#32
  | 82 => 0xBE05A8A8#32
  | 83 => 0x3F726A03#32
  | 84 => 0xBF3504F3#32
  | 85 => 0xBEA493B7#32
  | 86 => 0x3F7DCF55#32
  | 87 => 0xBF0E39DA#32
  | 88 => 0xBF000000#32
  | 89 => 0x3F7F73AF#32
  | 90 => 0xBEC3EF15#32
  | 91 => 0xBF28CAE3#32
  | 92 => 0x3F7746EA#32
  | 93 => 0xBE47C5C2#32
  | 94 => 0xBF4B1934#32
  | 95 => 0x3F659974#32
  | 96 => 0x80000000#32
  | 97 => 0xBF659974#32
  | 98 => 0x3F4B1934#32
  | 99 => 0x3E47C5C2#32
  | 100 => 0xBF7746EA#32
  | 101 => 0x3F28CAE3#32
  | 102 => 0x3EC3EF15#32
  | 103 => 0xBF7F73AF#32
  | 104 => 0x3F000000#32
  | 105 => 0x3F0E39DA#32
  | 106 => 0xBF7DCF55#32
  | 107 => 0x3EA493B7#32
  | 108 => 0x3F3504F3#32
  | 109 => 0xBF726A03#32
  | 110 => 0x3E05A8A8#32
  | 111 => 0x3F54DB31#32
  | 112 => 0xBF5DB3D7#32
  | 113 => 0xBD85F213#32
  | 114 => 0x3F6C835E#32
  | 115 => 0xBF407893#32
  | 116 => 0xBE8483EE#32
  | 117 => 0x3F7B14BE#32
  | 118 => 0xBF1BD7CA#32
  | 119 => 0xBEE273AA#32
  | 120 => 0x3F800000#32
  | 121 => 0xBEE273AA#32
  | 122 => 0xBF1BD7CA#32
  | 123 => 0x3F7B14BE#32
  | 124 => 0xBE8483EE#32
  | 125 => 0xBF407893#32
  | 126 => 0x3F6C835E#32
  | 127 => 0xBD85F213#32
  | _ => 0#32

noncomputable abbrev lit1t0_211 (i : Nat) : BitVec 32 := match i % 128 with
  | 0 => 0xBF5DB3D7#32
  | 1 => 0x3F54DB31#32
  | 2 => 0x3E05A8A8#32
  | 3 => 0xBF726A03#32
  | 4 => 0x3F3504F3#32
  | 5 => 0x3EA493B7#32
  | 6 => 0xBF7DCF55#32
  | 7 => 0x3F0E39DA#32
  | 8 => 0x3F000000#32
  | 9 => 0xBF7F73AF#32
  | 10 => 0x3EC3EF15#32
  | 11 => 0x3F28CAE3#32
  | 12 => 0xBF7746EA#32
  | 13 => 0x3E47C5C2#32
  | 14 => 0x3F4B1934#32
  | 15 => 0xBF659974#32
  | 16 => 0xA50D3132#32
  | 17 => 0x3F659974#32
  | 18 => 0xBF4B1934#32
  | 19 => 0xBE47C5C2#32
  | 20 => 0x3F7746EA#32
  | 21 => 0xBF28CAE3#32
  | 22 => 0xBEC3EF15#32
  | 23 => 0x3F7F73AF#32
  | 24 => 0xBF000000#32
  | 25 => 0xBF0E39DA#32
  | 26 => 0x3F7DCF55#32
  | 27 => 0xBEA493B7#32
  | 28 => 0xBF3504F3#32
  | 29 => 0x3F726A03#32
  | 30 => 0xBE05A8A8#32
  | 31 => 0xBF54DB31#32
  | 32 => 0x3F5DB3D7#32
  | 33 => 0x3D85F213#32
  | 34 => 0xBF6C835E#32
  | 35 => 0x3F407893#32
  | 36 => 0x3E8483EE#32
  | 37 => 0xBF7B14BE#32
  | 38 => 0x3F1BD7CA#32
  | 39 => 0x3EE273AA#32
  | 40 => 0xBF800000#32
  | 41 => 0x3EE273AA#32
  | 42 => 0x3F1BD7CA#32
  | 43 => 0xBF7B14BE#32
  | 44 => 0x3E8483EE#32
  | 45 => 0x3F407893#32
  | 46 => 0xBF6C835E#32
  | 47 => 0x3D85F213#32
  | 48 => 0x3F5DB3D7#32
  | 49 => 0xBF54DB31#32
  | 50 => 0xBE05A8A8#32
  | 51 => 0x3F726A03#32
  | 52 => 0xBF3504F3#32
  | 53 => 0xBEA493B7#32
  | 54 => 0x3F7DCF55#32
  | 55 => 0xBF0E39DA#32
  | 56 => 0xBF000000#32
  | 57 => 0x3F7F73AF#32
  | 58 => 0xBEC3EF15#32
  | 59 => 0xBF28CAE3#32
  | 60 => 0x3F7746EA#32
  | 61 => 0xBE47C5C2#32
  | 62 => 0xBF4B1934#32
  | 63 => 0x3F659974#32
  | 64 => 0x80000000#32
  | 65 => 0xBF631324#32
  | 66 => 0x3F51B3F3#32
  | 67 => 0x3E05A8A8#32
  | 68 => 0xBF708FB2#32
  | 69 => 0x3F3CBE35#32
  | 70 => 0x3E8483EE#32
  | 71 => 0xBF79EE89#32
  | 72 => 0x3F248DBB#32
  | 73 => 0x3EC3EF15#32
  | 74 => 0xBF7F069E#32
  | 75 => 0x3F098C78#32
  | 76 => 0x3F000000#32
  | 77 => 0xBF7FC1A0#32
  | 78 => 0x3ED8616C#32
  | 79 => 0x3F1BD7CA#32
  | 80 => 0xBF7C1C5C#32
  | 81 => 0x3E99F61C#32
  | 82 => 0x3F3504F3#32
  | 83 => 0xBF7426CB#32
  | 84 => 0x3E31D0D4#32
  | 85 => 0x3F4B1934#32
  | 86 => 0xBF6803CA#32
  | 87 => 0x3D32AA3E#32
  | 88 => 0x3F5DB3D7#32
  | 89 => 0xBF57E880#32
  | 90 => 0xBDB27EB6#32
  | 91 => 0x3F6C835E#32
  | 92 => 0xBF441B7D#32
  | 93 => 0xBE5DA259#32
  | 94 => 0x3F7746EA#32
  | 95 => 0xBF2CF37B#32
  | 96 => 0xBEAF1D44#32
  | 97 => 0x3F7DCF55#32
  | 98 => 0xBF12D5E8#32
  | 99 => 0xBEEC6A50#32
  | 100 => 0x3F800000#32
  | 101 => 0xBEEC6A50#32
  | 102 => 0xBF12D5E8#32
  | 103 => 0x3F7DCF55#32
  | 104 => 0xBEAF1D44#32
  | 105 => 0xBF2CF37B#32
  | 106 => 0x3F7746EA#32
  | 107 => 0xBE5DA259#32
  | 108 => 0xBF441B7D#32
  | 109 => 0x3F6C835E#32
  | 110 => 0xBDB27EB6#32
  | 111 => 0xBF57E880#32
  | 112 => 0x3F5DB3D7#32
  | 113 => 0x3D32AA3E#32
  | 114 => 0xBF6803CA#32
  | 115 => 0x3F4B1934#32
  | 116 => 0x3E31D0D4#32
  | 117 => 0xBF7426CB#32
  | 118 => 0x3F3504F3#32
  | 119 => 0x3E99F61C#32
  | 120 => 0xBF7C1C5C#32
  | 121 => 0x3F1BD7CA#32
  | 122 => 0x3ED8616C#32
  | 123 => 0xBF7FC1A0#32
  | 124 => 0x3F000000#32
  | 125 => 0x3F098C78#32
  | 126 => 0xBF7F069E#32
  | 127 => 0x3EC3EF15#32
  | _ => 0#32

noncomputable abbrev lit1t0_212 (i : Nat) : BitVec 32 := match i % 128 with
  | 0 => 0x3F248DBB#32
  | 1 => 0xBF79EE89#32
  | 2 => 0x3E8483EE#32
  | 3 => 0x3F3CBE35#32
  | 4 => 0xBF708FB2#32
  | 5 => 0x3E05A8A8#32
  | 6 => 0x3F51B3F3#32
  | 7 => 0xBF631324#32
  | 8 => 0xA50D3132#32
  | 9 => 0x3F631324#32
  | 10 => 0xBF51B3F3#32
  | 11 => 0xBE05A8A8#32
  | 12 => 0x3F708FB2#32
  | 13 => 0xBF3CBE35#32
  | 14 => 0xBE8483EE#32
  | 15 => 0x3F79EE89#32
  | 16 => 0xBF248DBB#32
  | 17 => 0xBEC3EF15#32
  | 18 => 0x3F7F069E#32
  | 19 => 0xBF098C78#32
  | 20 => 0xBF000000#32
  | 21 => 0x3F7FC1A0#32
  | 22 => 0xBED8616C#32
  | 23 => 0xBF1BD7CA#32
  | 24 => 0x3F7C1C5C#32
  | 25 => 0xBE99F61C#32
  | 26 => 0xBF3504F3#32
  | 27 => 0x3F7426CB#32
  | 28 => 0xBE31D0D4#32
  | 29 => 0xBF4B1934#32
  | 30 => 0x3F6803CA#32
  | 31 => 0xBD32AA3E#32
  | 32 => 0xBF5DB3D7#32
  | 33 => 0x3F57E880#32
  | 34 => 0x3DB27EB6#32
  | 35 => 0xBF6C835E#32
  | 36 => 0x3F441B7D#32
  | 37 => 0x3E5DA259#32
  | 38 => 0xBF7746EA#32
  | 39 => 0x3F2CF37B#32
  | 40 => 0x3EAF1D44#32
  | 41 => 0xBF7DCF55#32
  | 42 => 0x3F12D5E8#32
  | 43 => 0x3EEC6A50#32
  | 44 => 0xBF800000#32
  | 45 => 0x3EEC6A50#32
  | 46 => 0x3F12D5E8#32
  | 47 => 0xBF7DCF55#32
  | 48 => 0x3EAF1D44#32
  | 49 => 0x3F2CF37B#32
  | 50 => 0xBF7746EA#32
  | 51 => 0x3E5DA259#32
  | 52 => 0x3F441B7D#32
  | 53 => 0xBF6C835E#32
  | 54 => 0x3DB27EB6#32
  | 55 => 0x3F57E880#32
  | 56 => 0xBF5DB3D7#32
  | 57 => 0xBD32AA3E#32
  | 58 => 0x3F6803CA#32
  | 59 => 0xBF4B1934#32
  | 60 => 0xBE31D0D4#32
  | 61 => 0x3F7426CB#32
  | 62 => 0xBF3504F3#32
  | 63 => 0xBE99F61C#32
  | 64 => 0x3F7C1C5C#32
  | 65 => 0xBF1BD7CA#32
  | 66 => 0xBED8616C#32
  | 67 => 0x3F7FC1A0#32
  | 68 => 0xBF000000#32
  | 69 => 0xBF098C78#32
  | 70 => 0x3F7F069E#32
  | 71 => 0xBEC3EF15#32
  | 72 => 0xBF248DBB#32
  | 73 => 0x3F79EE89#32
  | 74 => 0xBE8483EE#32
  | 75 => 0xBF3CBE35#32
  | 76 => 0x3F708FB2#32
  | 77 => 0xBE05A8A8#32
  | 78 => 0xBF51B3F3#32
  | 79 => 0x3F631324#32
  | 80 => 0x80000000#32
  | 81 => 0xBF631324#32
  | 82 => 0x3F51B3F3#32
  | 83 => 0x3E05A8A8#32
  | 84 => 0xBF708FB2#32
  | 85 => 0x3F3CBE35#32
  | 86 => 0x3E8483EE#32
  | 87 => 0xBF79EE89#32
  | 88 => 0x3F248DBB#32
  | 89 => 0x3EC3EF15#32
  | 90 => 0xBF7F069E#32
  | 91 => 0x3F098C78#32
  | 92 => 0x3F000000#32
  | 93 => 0xBF7FC1A0#32
  | 94 => 0x3ED8616C#32
  | 95 => 0x3F1BD7CA#32
  | 96 => 0xBF7C1C5C#32
  | 97 => 0x3E99F61C#32
  | 98 => 0x3F3504F3#32
  | 99 => 0xBF7426CB#32
  | 100 => 0x3E31D0D4#32
  | 101 => 0x3F4B1934#32
  | 102 => 0xBF6803CA#32
  | 103 => 0x3D32AA3E#32
  | 104 => 0x3F5DB3D7#32
  | 105 => 0xBF57E880#32
  | 106 => 0xBDB27EB6#32
  | 107 => 0x3F6C835E#32
  | 108 => 0xBF441B7D#32
  | 109 => 0xBE5DA259#32
  | 110 => 0x3F7746EA#32
  | 111 => 0xBF2CF37B#32
  | 112 => 0xBEAF1D44#32
  | 113 => 0x3F7DCF55#32
  | 114 => 0xBF12D5E8#32
  | 115 => 0xBEEC6A50#32
  | 116 => 0x3F800000#32
  | 117 => 0xBEEC6A50#32
  | 118 => 0xBF12D5E8#32
  | 119 => 0x3F7DCF55#32
  | 120 => 0xBEAF1D44#32
  | 121 => 0xBF2CF37B#32
  | 122 => 0x3F7746EA#32
  | 123 => 0xBE5DA259#32
  | 124 => 0xBF441B7D#32
  | 125 => 0x3F6C835E#32
  | 126 => 0xBDB27EB6#32
  | 127 => 0xBF57E880#32
  | _ => 0#32

noncomputable abbrev lit1t0_213 (i : Nat) : BitVec 32 := match i % 128 with
  | 0 => 0x3F5DB3D7#32
  | 1 => 0x3D32AA3E#32
  | 2 => 0xBF6803CA#32
  | 3 => 0x3F4B1934#32
  | 4 => 0x3E31D0D4#32
  | 5 => 0xBF7426CB#32
  | 6 => 0x3F3504F3#32
  | 7 => 0x3E99F61C#32
  | 8 => 0xBF7C1C5C#32
  | 9 => 0x3F1BD7CA#32
  | 10 => 0x3ED8616C#32
  | 11 => 0xBF7FC1A0#32
  | 12 => 0x3F000000#32
  | 13 => 0x3F098C78#32
  | 14 => 0xBF7F069E#32
  | 15 => 0x3EC3EF15#32
  | 16 => 0x3F248DBB#32
  | 17 => 0xBF79EE89#32
  | 18 => 0x3E8483EE#32
  | 19 => 0x3F3CBE35#32
  | 20 => 0xBF708FB2#32
  | 21 => 0x3E05A8A8#32
  | 22 => 0x3F51B3F3#32
  | 23 => 0xBF631324#32
  | 24 => 0xA50D3132#32
  | 25 => 0x3F631324#32
  | 26 => 0xBF51B3F3#32
  | 27 => 0xBE05A8A8#32
  | 28 => 0x3F708FB2#32
  | 29 => 0xBF3CBE35#32
  | 30 => 0xBE8483EE#32
  | 31 => 0x3F79EE89#32
  | 32 => 0xBF248DBB#32
  | 33 => 0xBEC3EF15#32
  | 34 => 0x3F7F069E#32
  | 35 => 0xBF098C78#32
  | 36 => 0xBF000000#32
  | 37 => 0x3F7FC1A0#32
  | 38 => 0xBED8616C#32
  | 39 => 0xBF1BD7CA#32
  | 40 => 0x3F7C1C5C#32
  | 41 => 0xBE99F61C#32
  | 42 => 0xBF3504F3#32
  | 43 => 0x3F7426CB#32
  | 44 => 0xBE31D0D4#32
  | 45 => 0xBF4B1934#32
  | 46 => 0x3F6803CA#32
  | 47 => 0xBD32AA3E#32
  | 48 => 0xBF5DB3D7#32
  | 49 => 0x3F57E880#32
  | 50 => 0x3DB27EB6#32
  | 51 => 0xBF6C835E#32
  | 52 => 0x3F441B7D#32
  | 53 => 0x3E5DA259#32
  | 54 => 0xBF7746EA#32
  | 55 => 0x3F2CF37B#32
  | 56 => 0x3EAF1D44#32
  | 57 => 0xBF7DCF55#32
  | 58 => 0x3F12D5E8#32
  | 59 => 0x3EEC6A50#32
  | 60 => 0xBF800000#32
  | 61 => 0x3EEC6A50#32
  | 62 => 0x3F12D5E8#32
  | 63 => 0xBF7DCF55#32
  | 64 => 0x3EAF1D44#32
  | 65 => 0x3F2CF37B#32
  | 66 => 0xBF7746EA#32
  | 67 => 0x3E5DA259#32
  | 68 => 0x3F441B7D#32
  | 69 => 0xBF6C835E#32
  | 70 => 0x3DB27EB6#32
  | 71 => 0x3F57E880#32
  | 72 => 0xBF5DB3D7#32
  | 73 => 0xBD32AA3E#32
  | 74 => 0x3F6803CA#32
  | 75 => 0xBF4B1934#32
  | 76 => 0xBE31D0D4#32
  | 77 => 0x3F7426CB#32
  | 78 => 0xBF3504F3#32
  | 79 => 0xBE99F61C#32
  | 80 => 0x3F7C1C5C#32
  | 81 => 0xBF1BD7CA#32
  | 82 => 0xBED8616C#32
  | 83 => 0x3F7FC1A0#32
  | 84 => 0xBF000000#32
  | 85 => 0xBF098C78#32
  | 86 => 0x3F7F069E#32
  | 87 => 0xBEC3EF15#32
  | 88 => 0xBF248DBB#32
  | 89 => 0x3F79EE89#32
  | 90 => 0xBE8483EE#32
  | 91 => 0xBF3CBE35#32
  | 92 => 0x3F708FB2#32
  | 93 => 0xBE05A8A8#32
  | 94 => 0xBF51B3F3#32
  | 95 => 0x3F631324#32
  | 96 => 0x80000000#32
  | 97 => 0xBF60712A#32
  | 98 => 0x3F57E880#32
  | 99 => 0x3D85F213#32
  | 100 => 0xBF6803CA#32
  | 101 => 0x3F4E7327#32
  | 102 => 0x3E05A8A8#32
  | 103 => 0xBF6E9811#32
  | 104 => 0x3F441B7D#32
  | 105 => 0x3E47C5C2#32
  | 106 => 0xBF7426CB#32
  | 107 => 0x3F38ECD8#32
  | 108 => 0x3E8483EE#32
  | 109 => 0xBF78A9E0#32
  | 110 => 0x3F2CF37B#32
  | 111 => 0x3EA493B7#32
  | 112 => 0xBF7C1C5C#32
  | 113 => 0x3F203C85#32
  | 114 => 0x3EC3EF15#32
  | 115 => 0xBF7E7A7A#32
  | 116 => 0x3F12D5E8#32
  | 117 => 0x3EE273AA#32
  | 118 => 0xBF7FC1A0#32
  | 119 => 0x3F04CE53#32
  | 120 => 0x3F000000#32
  | 121 => 0xBF7FF067#32
  | 122 => 0x3EEC6A50#32
  | 123 => 0x3F0E39DA#32
  | 124 => 0xBF7F069E#32
  | 125 => 0x3ECE34D0#32
  | 126 => 0x3F1BD7CA#32
  | 127 => 0xBF7D0543#32
  | _ => 0#32

noncomputable abbrev lit1t0_214 (i : Nat) : BitVec 32 := match i % 128 with
  | 0 => 0x3EAF1D44#32
  | 1 => 0x3F28CAE3#32
  | 2 => 0xBF79EE89#32
  | 3 => 0x3E8F45C0#32
  | 4 => 0x3F3504F3#32
  | 5 => 0xBF75C5D4#32
  | 6 => 0x3E5DA259#32
  | 7 => 0x3F407893#32
  | 8 => 0xBF708FB2#32
  | 9 => 0x3E1BC63C#32
  | 10 => 0x3F4B1934#32
  | 11 => 0xBF6A51DA#32
  | 12 => 0x3DB27EB6#32
  | 13 => 0x3F54DB31#32
  | 14 => 0xBF631324#32
  | 15 => 0x3CB2B521#32
  | 16 => 0x3F5DB3D7#32
  | 17 => 0xBF5ADB81#32
  | 18 => 0xBD32AA3E#32
  | 19 => 0x3F659974#32
  | 20 => 0xBF51B3F3#32
  | 21 => 0xBDDEF599#32
  | 22 => 0x3F6C835E#32
  | 23 => 0xBF47A682#32
  | 24 => 0xBE31D0D4#32
  | 25 => 0x3F726A03#32
  | 26 => 0xBF3CBE35#32
  | 27 => 0xBE7363EE#32
  | 28 => 0x3F7746EA#32
  | 29 => 0xBF310700#32
  | 30 => 0xBE99F61C#32
  | 31 => 0x3F7B14BE#32
  | 32 => 0xBF248DBB#32
  | 33 => 0xBEB9917B#32
  | 34 => 0x3F7DCF55#32
  | 35 => 0xBF176012#32
  | 36 => 0xBED8616C#32
  | 37 => 0x3F7F73AF#32
  | 38 => 0xBF098C78#32
  | 39 => 0xBEF64429#32
  | 40 => 0x3F800000#32
  | 41 => 0xBEF64429#32
  | 42 => 0xBF098C78#32
  | 43 => 0x3F7F73AF#32
  | 44 => 0xBED8616C#32
  | 45 => 0xBF176012#32
  | 46 => 0x3F7DCF55#32
  | 47 => 0xBEB9917B#32
  | 48 => 0xBF248DBB#32
  | 49 => 0x3F7B14BE#32
  | 50 => 0xBE99F61C#32
  | 51 => 0xBF310700#32
  | 52 => 0x3F7746EA#32
  | 53 => 0xBE7363EE#32
  | 54 => 0xBF3CBE35#32
  | 55 => 0x3F726A03#32
  | 56 => 0xBE31D0D4#32
  | 57 => 0xBF47A682#32
  | 58 => 0x3F6C835E#32
  | 59 => 0xBDDEF599#32
  | 60 => 0xBF51B3F3#32
  | 61 => 0x3F659974#32
  | 62 => 0xBD32AA3E#32
  | 63 => 0xBF5ADB81#32
  | 64 => 0x3F5DB3D7#32
  | 65 => 0x3CB2B521#32
  | 66 => 0xBF631324#32
  | 67 => 0x3F54DB31#32
  | 68 => 0x3DB27EB6#32
  | 69 => 0xBF6A51DA#32
  | 70 => 0x3F4B1934#32
  | 71 => 0x3E1BC63C#32
  | 72 => 0xBF708FB2#32
  | 73 => 0x3F407893#32
  | 74 => 0x3E5DA259#32
  | 75 => 0xBF75C5D4#32
  | 76 => 0x3F3504F3#32
  | 77 => 0x3E8F45C0#32
  | 78 => 0xBF79EE89#32
  | 79 => 0x3F28CAE3#32
  | 80 => 0x3EAF1D44#32
  | 81 => 0xBF7D0543#32
  | 82 => 0x3F1BD7CA#32
  | 83 => 0x3ECE34D0#32
  | 84 => 0xBF7F069E#32
  | 85 => 0x3F0E39DA#32
  | 86 => 0x3EEC6A50#32
  | 87 => 0xBF7FF067#32
  | 88 => 0x3F000000#32
  | 89 => 0x3F04CE53#32
  | 90 => 0xBF7FC1A0#32
  | 91 => 0x3EE273AA#32
  | 92 => 0x3F12D5E8#32
  | 93 => 0xBF7E7A7A#32
  | 94 => 0x3EC3EF15#32
  | 95 => 0x3F203C85#32
  | 96 => 0xBF7C1C5C#32
  | 97 => 0x3EA493B7#32
  | 98 => 0x3F2CF37B#32
  | 99 => 0xBF78A9E0#32
  | 100 => 0x3E8483EE#32
  | 101 => 0x3F38ECD8#32
  | 102 => 0xBF7426CB#32
  | 103 => 0x3E47C5C2#32
  | 104 => 0x3F441B7D#32
  | 105 => 0xBF6E9811#32
  | 106 => 0x3E05A8A8#32
  | 107 => 0x3F4E7327#32
  | 108 => 0xBF6803CA#32
  | 109 => 0x3D85F213#32
  | 110 => 0x3F57E880#32
  | 111 => 0xBF60712A#32
  | 112 => 0xA50D3132#32
  | 113 => 0x3F60712A#32
  | 114 => 0xBF57E880#32
  | 115 => 0xBD85F213#32
  | 116 => 0x3F6803CA#32
  | 117 => 0xBF4E7327#32
  | 118 => 0xBE05A8A8#32
  | 119 => 0x3F6E9811#32
  | 120 => 0xBF441B7D#32
  | 121 => 0xBE47C5C2#32
  | 122 => 0x3F7426CB#32
  | 123 => 0xBF38ECD8#32
  | 124 => 0xBE8483EE#32
  | 125 => 0x3F78A9E0#32
  | 126 => 0xBF2CF37B#32
  | 127 => 0xBEA493B7#32
  | _ => 0#32

noncomputable abbrev lit1t0_215 (i : Nat) : BitVec 32 := match i % 128 with
  | 0 => 0x3F7C1C5C#32
  | 1 => 0xBF203C85#32
  | 2 => 0xBEC3EF15#32
  | 3 => 0x3F7E7A7A#32
  | 4 => 0xBF12D5E8#32
  | 5 => 0xBEE273AA#32
  | 6 => 0x3F7FC1A0#32
  | 7 => 0xBF04CE53#32
  | 8 => 0xBF000000#32
  | 9 => 0x3F7FF067#32
  | 10 => 0xBEEC6A50#32
  | 11 => 0xBF0E39DA#32
  | 12 => 0x3F7F069E#32
  | 13 => 0xBECE34D0#32
  | 14 => 0xBF1BD7CA#32
  | 15 => 0x3F7D0543#32
  | 16 => 0xBEAF1D44#32
  | 17 => 0xBF28CAE3#32
  | 18 => 0x3F79EE89#32
  | 19 => 0xBE8F45C0#32
  | 20 => 0xBF3504F3#32
  | 21 => 0x3F75C5D4#32
  | 22 => 0xBE5DA259#32
  | 23 => 0xBF407893#32
  | 24 => 0x3F708FB2#32
  | 25 => 0xBE1BC63C#32
  | 26 => 0xBF4B1934#32
  | 27 => 0x3F6A51DA#32
  | 28 => 0xBDB27EB6#32
  | 29 => 0xBF54DB31#32
  | 30 => 0x3F631324#32
  | 31 => 0xBCB2B521#32
  | 32 => 0xBF5DB3D7#32
  | 33 => 0x3F5ADB81#32
  | 34 => 0x3D32AA3E#32
  | 35 => 0xBF659974#32
  | 36 => 0x3F51B3F3#32
  | 37 => 0x3DDEF599#32
  | 38 => 0xBF6C835E#32
  | 39 => 0x3F47A682#32
  | 40 => 0x3E31D0D4#32
  | 41 => 0xBF726A03#32
  | 42 => 0x3F3CBE35#32
  | 43 => 0x3E7363EE#32
  | 44 => 0xBF7746EA#32
  | 45 => 0x3F310700#32
  | 46 => 0x3E99F61C#32
  | 47 => 0xBF7B14BE#32
  | 48 => 0x3F248DBB#32
  | 49 => 0x3EB9917B#32
  | 50 => 0xBF7DCF55#32
  | 51 => 0x3F176012#32
  | 52 => 0x3ED8616C#32
  | 53 => 0xBF7F73AF#32
  | 54 => 0x3F098C78#32
  | 55 => 0x3EF64429#32
  | 56 => 0xBF800000#32
  | 57 => 0x3EF64429#32
  | 58 => 0x3F098C78#32
  | 59 => 0xBF7F73AF#32
  | 60 => 0x3ED8616C#32
  | 61 => 0x3F176012#32
  | 62 => 0xBF7DCF55#32
  | 63 => 0x3EB9917B#32
  | 64 => 0x3F248DBB#32
  | 65 => 0xBF7B14BE#32
  | 66 => 0x3E99F61C#32
  | 67 => 0x3F310700#32
  | 68 => 0xBF7746EA#32
  | 69 => 0x3E7363EE#32
  | 70 => 0x3F3CBE35#32
  | 71 => 0xBF726A03#32
  | 72 => 0x3E31D0D4#32
  | 73 => 0x3F47A682#32
  | 74 => 0xBF6C835E#32
  | 75 => 0x3DDEF599#32
  | 76 => 0x3F51B3F3#32
  | 77 => 0xBF659974#32
  | 78 => 0x3D32AA3E#32
  | 79 => 0x3F5ADB81#32
  | 80 => 0xBF5DB3D7#32
  | 81 => 0xBCB2B521#32
  | 82 => 0x3F631324#32
  | 83 => 0xBF54DB31#32
  | 84 => 0xBDB27EB6#32
  | 85 => 0x3F6A51DA#32
  | 86 => 0xBF4B1934#32
  | 87 => 0xBE1BC63C#32
  | 88 => 0x3F708FB2#32
  | 89 => 0xBF407893#32
  | 90 => 0xBE5DA259#32
  | 91 => 0x3F75C5D4#32
  | 92 => 0xBF3504F3#32
  | 93 => 0xBE8F45C0#32
  | 94 => 0x3F79EE89#32
  | 95 => 0xBF28CAE3#32
  | 96 => 0xBEAF1D44#32
  | 97 => 0x3F7D0543#32
  | 98 => 0xBF1BD7CA#32
  | 99 => 0xBECE34D0#32
  | 100 => 0x3F7F069E#32
  | 101 => 0xBF0E39DA#32
  | 102 => 0xBEEC6A50#32
  | 103 => 0x3F7FF067#32
  | 104 => 0xBF000000#32
  | 105 => 0xBF04CE53#32
  | 106 => 0x3F7FC1A0#32
  | 107 => 0xBEE273AA#32
  | 108 => 0xBF12D5E8#32
  | 109 => 0x3F7E7A7A#32
  | 110 => 0xBEC3EF15#32
  | 111 => 0xBF203C85#32
  | 112 => 0x3F7C1C5C#32
  | 113 => 0xBEA493B7#32
  | 114 => 0xBF2CF37B#32
  | 115 => 0x3F78A9E0#32
  | 116 => 0xBE8483EE#32
  | 117 => 0xBF38ECD8#32
  | 118 => 0x3F7426CB#32
  | 119 => 0xBE47C5C2#32
  | 120 => 0xBF441B7D#32
  | 121 => 0x3F6E9811#32
  | 122 => 0xBE05A8A8#32
  | 123 => 0xBF4E7327#32
  | 124 => 0x3F6803CA#32
  | 125 => 0xBD85F213#32
  | 126 => 0xBF57E880#32
  | 127 => 0x3F60712A#32
  | _ => 0#32

noncomputable abbrev lit1t0_216 (i : Nat) : BitVec 32 := match i % 128 with
  | 0 => 0x80000000#32
  | 1 => 0xBF5DB3D7#32
  | 2 => 0x3F5DB3D7#32
  | 3 => 0x80000000#32
  | 4 => 0xBF5DB3D7#32
  | 5 => 0x3F5DB3D7#32
  | 6 => 0x80000000#32
  | 7 => 0xBF5DB3D7#32
  | 8 => 0x3F5DB3D7#32
  | 9 => 0x80000000#32
  | 10 => 0xBF5DB3D7#32
  | 11 => 0x3F5DB3D7#32
  | 12 => 0x80000000#32
  | 13 => 0xBF5DB3D7#32
  | 14 => 0x3F5DB3D7#32
  | 15 => 0x80000000#32
  | 16 => 0xBF5DB3D7#32
  | 17 => 0x3F5DB3D7#32
  | 18 => 0x80000000#32
  | 19 => 0xBF5DB3D7#32
  | 20 => 0x3F5DB3D7#32
  | 21 => 0x80000000#32
  | 22 => 0xBF5DB3D7#32
  | 23 => 0x3F5DB3D7#32
  | 24 => 0x80000000#32
  | 25 => 0xBF5DB3D7#32
  | 26 => 0x3F5DB3D7#32
  | 27 => 0x80000000#32
  | 28 => 0xBF5DB3D7#32
  | 29 => 0x3F5DB3D7#32
  | 30 => 0x80000000#32
  | 31 => 0xBF5DB3D7#32
  | 32 => 0x3F5DB3D7#32
  | 33 => 0x80000000#32
  | 34 => 0xBF5DB3D7#32
  | 35 => 0x3F5DB3D7#32
  | 36 => 0x80000000#32
  | 37 => 0xBF5DB3D7#32
  | 38 => 0x3F5DB3D7#32
  | 39 => 0x80000000#32
  | 40 => 0xBF5DB3D7#32
  | 41 => 0x3F5DB3D7#32
  | 42 => 0x80000000#32
  | 43 => 0xBF5DB3D7#32
  | 44 => 0x3F5DB3D7#32
  | 45 => 0x80000000#32
  | 46 => 0xBF5DB3D7#32
  | 47 => 0x3F5DB3D7#32
  | 48 => 0x80000000#32
  | 49 => 0xBF5DB3D7#32
  | 50 => 0x3F5DB3D7#32
  | 51 => 0x80000000#32
  | 52 => 0xBF5DB3D7#32
  | 53 => 0x3F5DB3D7#32
  | 54 => 0x80000000#32
  | 55 => 0xBF5DB3D7#32
  | 56 => 0x3F5DB3D7#32
  | 57 => 0x80000000#32
  | 58 => 0xBF5DB3D7#32
  | 59 => 0x3F5DB3D7#32
  | 60 => 0x80000000#32
  | 61 => 0xBF5DB3D7#32
  | 62 => 0x3F5DB3D7#32
  | 63 => 0x80000000#32
  | 64 => 0xBF5DB3D7#32
  | 65 => 0x3F5DB3D7#32
  | 66 => 0x80000000#32
  | 67 => 0xBF5DB3D7#32
  | 68 => 0x3F5DB3D7#32
  | 69 => 0x80000000#32
  | 70 => 0xBF5DB3D7#32
  | 71 => 0x3F5DB3D7#32
  | 72 => 0x80000000#32
  | 73 => 0xBF5DB3D7#32
  | 74 => 0x3F5DB3D7#32
  | 75 => 0x80000000#32
  | 76 => 0xBF5DB3D7#32
  | 77 => 0x3F5DB3D7#32
  | 78 => 0x80000000#32
  | 79 => 0xBF5DB3D7#32
  | 80 => 0x3F5DB3D7#32
  | 81 => 0x80000000#32
  | 82 => 0xBF5DB3D7#32
  | 83 => 0x3F5DB3D7#32
  | 84 => 0x80000000#32
  | 85 => 0xBF5DB3D7#32
  | 86 => 0x3F5DB3D7#32
  | 87 => 0x80000000#32
  | 88 => 0xBF5DB3D7#32
  | 89 => 0x3F5DB3D7#32
  | 90 => 0x80000000#32
  | 91 => 0xBF5DB3D7#32
  | 92 => 0x3F5DB3D7#32
  | 93 => 0x80000000#32
  | 94 => 0xBF5DB3D7#32
  | 95 => 0x3F5DB3D7#32
  | 96 => 0x80000000#32
  | 97 => 0xBF5DB3D7#32
  | 98 => 0x3F5DB3D7#32
  | 99 => 0x80000000#32
  | 100 => 0xBF5DB3D7#32
  | 101 => 0x3F5DB3D7#32
  | 102 => 0x80000000#32
  | 103 => 0xBF5DB3D7#32
  | 104 => 0x3F5DB3D7#32
  | 105 => 0x80000000#32
  | 106 => 0xBF5DB3D7#32
  | 107 => 0x3F5DB3D7#32
  | 108 => 0x80000000#32
  | 109 => 0xBF5DB3D7#32
  | 110 => 0x3F5DB3D7#32
  | 111 => 0x80000000#32
  | 112 => 0xBF5DB3D7#32
  | 113 => 0x3F5DB3D7#32
  | 114 => 0x80000000#32
  | 115 => 0xBF5DB3D7#32
  | 116 => 0x3F5DB3D7#32
  | 117 => 0x80000000#32
  | 118 => 0xBF5DB3D7#32
  | 119 => 0x3F5DB3D7#32
  | 120 => 0x80000000#32
  | 121 => 0xBF5DB3D7#32
  | 122 => 0x3F5DB3D7#32
  | 123 => 0x80000000#32
  | 124 => 0xBF5DB3D7#32
  | 125 => 0x3F5DB3D7#32
  | 126 => 0x80000000#32
  | 127 => 0xBF5DB3D7#32
  | _ => 0#32

noncomputable abbrev lit1t0_217 (i : Nat) : BitVec 32 := match i % 128 with
  | 0 => 0x3F5DB3D7#32
  | 1 => 0x80000000#32
  | 2 => 0xBF5DB3D7#32
  | 3 => 0x3F5DB3D7#32
  | 4 => 0x80000000#32
  | 5 => 0xBF5DB3D7#32
  | 6 => 0x3F5DB3D7#32
  | 7 => 0x80000000#32
  | 8 => 0xBF5DB3D7#32
  | 9 => 0x3F5DB3D7#32
  | 10 => 0x80000000#32
  | 11 => 0xBF5DB3D7#32
  | 12 => 0x3F5DB3D7#32
  | 13 => 0x80000000#32
  | 14 => 0xBF5DB3D7#32
  | 15 => 0x3F5DB3D7#32
  | 16 => 0x80000000#32
  | 17 => 0xBF5DB3D7#32
  | 18 => 0x3F5DB3D7#32
  | 19 => 0x80000000#32
  | 20 => 0xBF5DB3D7#32
  | 21 => 0x3F5DB3D7#32
  | 22 => 0x80000000#32
  | 23 => 0xBF5DB3D7#32
  | 24 => 0x3F5DB3D7#32
  | 25 => 0x80000000#32
  | 26 => 0xBF5DB3D7#32
  | 27 => 0x3F5DB3D7#32
  | 28 => 0x80000000#32
  | 29 => 0xBF5DB3D7#32
  | 30 => 0x3F5DB3D7#32
  | 31 => 0x80000000#32
  | 32 => 0xBF5DB3D7#32
  | 33 => 0x3F5DB3D7#32
  | 34 => 0x80000000#32
  | 35 => 0xBF5DB3D7#32
  | 36 => 0x3F5DB3D7#32
  | 37 => 0x80000000#32
  | 38 => 0xBF5DB3D7#32
  | 39 => 0x3F5DB3D7#32
  | 40 => 0x80000000#32
  | 41 => 0xBF5DB3D7#32
  | 42 => 0x3F5DB3D7#32
  | 43 => 0x80000000#32
  | 44 => 0xBF5DB3D7#32
  | 45 => 0x3F5DB3D7#32
  | 46 => 0x80000000#32
  | 47 => 0xBF5DB3D7#32
  | 48 => 0x3F5DB3D7#32
  | 49 => 0x80000000#32
  | 50 => 0xBF5DB3D7#32
  | 51 => 0x3F5DB3D7#32
  | 52 => 0x80000000#32
  | 53 => 0xBF5DB3D7#32
  | 54 => 0x3F5DB3D7#32
  | 55 => 0x80000000#32
  | 56 => 0xBF5DB3D7#32
  | 57 => 0x3F5DB3D7#32
  | 58 => 0x80000000#32
  | 59 => 0xBF5DB3D7#32
  | 60 => 0x3F5DB3D7#32
  | 61 => 0x80000000#32
  | 62 => 0xBF5DB3D7#32
  | 63 => 0x3F5DB3D7#32
  | 64 => 0x80000000#32
  | 65 => 0xBF5DB3D7#32
  | 66 => 0x3F5DB3D7#32
  | 67 => 0x80000000#32
  | 68 => 0xBF5DB3D7#32
  | 69 => 0x3F5DB3D7#32
  | 70 => 0x80000000#32
  | 71 => 0xBF5DB3D7#32
  | 72 => 0x3F5DB3D7#32
  | 73 => 0x80000000#32
  | 74 => 0xBF5DB3D7#32
  | 75 => 0x3F5DB3D7#32
  | 76 => 0x80000000#32
  | 77 => 0xBF5DB3D7#32
  | 78 => 0x3F5DB3D7#32
  | 79 => 0x80000000#32
  | 80 => 0xBF5DB3D7#32
  | 81 => 0x3F5DB3D7#32
  | 82 => 0x80000000#32
  | 83 => 0xBF5DB3D7#32
  | 84 => 0x3F5DB3D7#32
  | 85 => 0x80000000#32
  | 86 => 0xBF5DB3D7#32
  | 87 => 0x3F5DB3D7#32
  | 88 => 0x80000000#32
  | 89 => 0xBF5DB3D7#32
  | 90 => 0x3F5DB3D7#32
  | 91 => 0x80000000#32
  | 92 => 0xBF5DB3D7#32
  | 93 => 0x3F5DB3D7#32
  | 94 => 0x80000000#32
  | 95 => 0xBF5DB3D7#32
  | 96 => 0x3F5DB3D7#32
  | 97 => 0x80000000#32
  | 98 => 0xBF5DB3D7#32
  | 99 => 0x3F5DB3D7#32
  | 100 => 0x80000000#32
  | 101 => 0xBF5DB3D7#32
  | 102 => 0x3F5DB3D7#32
  | 103 => 0x80000000#32
  | 104 => 0xBF5DB3D7#32
  | 105 => 0x3F5DB3D7#32
  | 106 => 0x80000000#32
  | 107 => 0xBF5DB3D7#32
  | 108 => 0x3F5DB3D7#32
  | 109 => 0x80000000#32
  | 110 => 0xBF5DB3D7#32
  | 111 => 0x3F5DB3D7#32
  | 112 => 0x80000000#32
  | 113 => 0xBF5DB3D7#32
  | 114 => 0x3F5DB3D7#32
  | 115 => 0x80000000#32
  | 116 => 0xBF5DB3D7#32
  | 117 => 0x3F5DB3D7#32
  | 118 => 0x80000000#32
  | 119 => 0xBF5DB3D7#32
  | 120 => 0x3F5DB3D7#32
  | 121 => 0x80000000#32
  | 122 => 0xBF5DB3D7#32
  | 123 => 0x3F5DB3D7#32
  | 124 => 0x80000000#32
  | 125 => 0xBF5DB3D7#32
  | 126 => 0x3F5DB3D7#32
  | 127 => 0x80000000#32
  | _ => 0#32

noncomputable abbrev lit1t0_218 (i : Nat) : BitVec 32 := match i % 128 with
  | 0 => 0xBF5DB3D7#32
  | 1 => 0x3F5DB3D7#32
  | 2 => 0x80000000#32
  | 3 => 0xBF5DB3D7#32
  | 4 => 0x3F5DB3D7#32
  | 5 => 0x80000000#32
  | 6 => 0xBF5DB3D7#32
  | 7 => 0x3F5DB3D7#32
  | 8 => 0x80000000#32
  | 9 => 0xBF5DB3D7#32
  | 10 => 0x3F5DB3D7#32
  | 11 => 0x80000000#32
  | 12 => 0xBF5DB3D7#32
  | 13 => 0x3F5DB3D7#32
  | 14 => 0x80000000#32
  | 15 => 0xBF5DB3D7#32
  | 16 => 0x3F5DB3D7#32
  | 17 => 0x80000000#32
  | 18 => 0xBF5DB3D7#32
  | 19 => 0x3F5DB3D7#32
  | 20 => 0x80000000#32
  | 21 => 0xBF5DB3D7#32
  | 22 => 0x3F5DB3D7#32
  | 23 => 0x80000000#32
  | 24 => 0xBF5DB3D7#32
  | 25 => 0x3F5DB3D7#32
  | 26 => 0x80000000#32
  | 27 => 0xBF5DB3D7#32
  | 28 => 0x3F5DB3D7#32
  | 29 => 0x80000000#32
  | 30 => 0xBF5DB3D7#32
  | 31 => 0x3F5DB3D7#32
  | 32 => 0x80000000#32
  | 33 => 0xBF5ADB81#32
  | 34 => 0x3F631324#32
  | 35 => 0xBD85F213#32
  | 36 => 0xBF51B3F3#32
  | 37 => 0x3F6A51DA#32
  | 38 => 0xBE05A8A8#32
  | 39 => 0xBF47A682#32
  | 40 => 0x3F708FB2#32
  | 41 => 0xBE47C5C2#32
  | 42 => 0xBF3CBE35#32
  | 43 => 0x3F75C5D4#32
  | 44 => 0xBE8483EE#32
  | 45 => 0xBF310700#32
  | 46 => 0x3F79EE89#32
  | 47 => 0xBEA493B7#32
  | 48 => 0xBF248DBB#32
  | 49 => 0x3F7D0543#32
  | 50 => 0xBEC3EF15#32
  | 51 => 0xBF176012#32
  | 52 => 0x3F7F069E#32
  | 53 => 0xBEE273AA#32
  | 54 => 0xBF098C78#32
  | 55 => 0x3F7FF067#32
  | 56 => 0xBF000000#32
  | 57 => 0xBEF64429#32
  | 58 => 0x3F7FC1A0#32
  | 59 => 0xBF0E39DA#32
  | 60 => 0xBED8616C#32
  | 61 => 0x3F7E7A7A#32
  | 62 => 0xBF1BD7CA#32
  | 63 => 0xBEB9917B#32
  | 64 => 0x3F7C1C5C#32
  | 65 => 0xBF28CAE3#32
  | 66 => 0xBE99F61C#32
  | 67 => 0x3F78A9E0#32
  | 68 => 0xBF3504F3#32
  | 69 => 0xBE7363EE#32
  | 70 => 0x3F7426CB#32
  | 71 => 0xBF407893#32
  | 72 => 0xBE31D0D4#32
  | 73 => 0x3F6E9811#32
  | 74 => 0xBF4B1934#32
  | 75 => 0xBDDEF599#32
  | 76 => 0x3F6803CA#32
  | 77 => 0xBF54DB31#32
  | 78 => 0xBD32AA3E#32
  | 79 => 0x3F60712A#32
  | 80 => 0xBF5DB3D7#32
  | 81 => 0x3CB2B521#32
  | 82 => 0x3F57E880#32
  | 83 => 0xBF659974#32
  | 84 => 0x3DB27EB6#32
  | 85 => 0x3F4E7327#32
  | 86 => 0xBF6C835E#32
  | 87 => 0x3E1BC63C#32
  | 88 => 0x3F441B7D#32
  | 89 => 0xBF726A03#32
  | 90 => 0x3E5DA259#32
  | 91 => 0x3F38ECD8#32
  | 92 => 0xBF7746EA#32
  | 93 => 0x3E8F45C0#32
  | 94 => 0x3F2CF37B#32
  | 95 => 0xBF7B14BE#32
  | 96 => 0x3EAF1D44#32
  | 97 => 0x3F203C85#32
  | 98 => 0xBF7DCF55#32
  | 99 => 0x3ECE34D0#32
  | 100 => 0x3F12D5E8#32
  | 101 => 0xBF7F73AF#32
  | 102 => 0x3EEC6A50#32
  | 103 => 0x3F04CE53#32
  | 104 => 0xBF800000#32
  | 105 => 0x3F04CE53#32
  | 106 => 0x3EEC6A50#32
  | 107 => 0xBF7F73AF#32
  | 108 => 0x3F12D5E8#32
  | 109 => 0x3ECE34D0#32
  | 110 => 0xBF7DCF55#32
  | 111 => 0x3F203C85#32
  | 112 => 0x3EAF1D44#32
  | 113 => 0xBF7B14BE#32
  | 114 => 0x3F2CF37B#32
  | 115 => 0x3E8F45C0#32
  | 116 => 0xBF7746EA#32
  | 117 => 0x3F38ECD8#32
  | 118 => 0x3E5DA259#32
  | 119 => 0xBF726A03#32
  | 120 => 0x3F441B7D#32
  | 121 => 0x3E1BC63C#32
  | 122 => 0xBF6C835E#32
  | 123 => 0x3F4E7327#32
  | 124 => 0x3DB27EB6#32
  | 125 => 0xBF659974#32
  | 126 => 0x3F57E880#32
  | 127 => 0x3CB2B521#32
  | _ => 0#32

noncomputable abbrev lit1t0_219 (i : Nat) : BitVec 32 := match i % 128 with
  | 0 => 0xBF5DB3D7#32
  | 1 => 0x3F60712A#32
  | 2 => 0xBD32AA3E#32
  | 3 => 0xBF54DB31#32
  | 4 => 0x3F6803CA#32
  | 5 => 0xBDDEF599#32
  | 6 => 0xBF4B1934#32
  | 7 => 0x3F6E9811#32
  | 8 => 0xBE31D0D4#32
  | 9 => 0xBF407893#32
  | 10 => 0x3F7426CB#32
  | 11 => 0xBE7363EE#32
  | 12 => 0xBF3504F3#32
  | 13 => 0x3F78A9E0#32
  | 14 => 0xBE99F61C#32
  | 15 => 0xBF28CAE3#32
  | 16 => 0x3F7C1C5C#32
  | 17 => 0xBEB9917B#32
  | 18 => 0xBF1BD7CA#32
  | 19 => 0x3F7E7A7A#32
  | 20 => 0xBED8616C#32
  | 21 => 0xBF0E39DA#32
  | 22 => 0x3F7FC1A0#32
  | 23 => 0xBEF64429#32
  | 24 => 0xBF000000#32
  | 25 => 0x3F7FF067#32
  | 26 => 0xBF098C78#32
  | 27 => 0xBEE273AA#32
  | 28 => 0x3F7F069E#32
  | 29 => 0xBF176012#32
  | 30 => 0xBEC3EF15#32
  | 31 => 0x3F7D0543#32
  | 32 => 0xBF248DBB#32
  | 33 => 0xBEA493B7#32
  | 34 => 0x3F79EE89#32
  | 35 => 0xBF310700#32
  | 36 => 0xBE8483EE#32
  | 37 => 0x3F75C5D4#32
  | 38 => 0xBF3CBE35#32
  | 39 => 0xBE47C5C2#32
  | 40 => 0x3F708FB2#32
  | 41 => 0xBF47A682#32
  | 42 => 0xBE05A8A8#32
  | 43 => 0x3F6A51DA#32
  | 44 => 0xBF51B3F3#32
  | 45 => 0xBD85F213#32
  | 46 => 0x3F631324#32
  | 47 => 0xBF5ADB81#32
  | 48 => 0xA50D3132#32
  | 49 => 0x3F5ADB81#32
  | 50 => 0xBF631324#32
  | 51 => 0x3D85F213#32
  | 52 => 0x3F51B3F3#32
  | 53 => 0xBF6A51DA#32
  | 54 => 0x3E05A8A8#32
  | 55 => 0x3F47A682#32
  | 56 => 0xBF708FB2#32
  | 57 => 0x3E47C5C2#32
  | 58 => 0x3F3CBE35#32
  | 59 => 0xBF75C5D4#32
  | 60 => 0x3E8483EE#32
  | 61 => 0x3F310700#32
  | 62 => 0xBF79EE89#32
  | 63 => 0x3EA493B7#32
  | 64 => 0x3F248DBB#32
  | 65 => 0xBF7D0543#32
  | 66 => 0x3EC3EF15#32
  | 67 => 0x3F176012#32
  | 68 => 0xBF7F069E#32
  | 69 => 0x3EE273AA#32
  | 70 => 0x3F098C78#32
  | 71 => 0xBF7FF067#32
  | 72 => 0x3F000000#32
  | 73 => 0x3EF64429#32
  | 74 => 0xBF7FC1A0#32
  | 75 => 0x3F0E39DA#32
  | 76 => 0x3ED8616C#32
  | 77 => 0xBF7E7A7A#32
  | 78 => 0x3F1BD7CA#32
  | 79 => 0x3EB9917B#32
  | 80 => 0xBF7C1C5C#32
  | 81 => 0x3F28CAE3#32
  | 82 => 0x3E99F61C#32
  | 83 => 0xBF78A9E0#32
  | 84 => 0x3F3504F3#32
  | 85 => 0x3E7363EE#32
  | 86 => 0xBF7426CB#32
  | 87 => 0x3F407893#32
  | 88 => 0x3E31D0D4#32
  | 89 => 0xBF6E9811#32
  | 90 => 0x3F4B1934#32
  | 91 => 0x3DDEF599#32
  | 92 => 0xBF6803CA#32
  | 93 => 0x3F54DB31#32
  | 94 => 0x3D32AA3E#32
  | 95 => 0xBF60712A#32
  | 96 => 0x3F5DB3D7#32
  | 97 => 0xBCB2B521#32
  | 98 => 0xBF57E880#32
  | 99 => 0x3F659974#32
  | 100 => 0xBDB27EB6#32
  | 101 => 0xBF4E7327#32
  | 102 => 0x3F6C835E#32
  | 103 => 0xBE1BC63C#32
  | 104 => 0xBF441B7D#32
  | 105 => 0x3F726A03#32
  | 106 => 0xBE5DA259#32
  | 107 => 0xBF38ECD8#32
  | 108 => 0x3F7746EA#32
  | 109 => 0xBE8F45C0#32
  | 110 => 0xBF2CF37B#32
  | 111 => 0x3F7B14BE#32
  | 112 => 0xBEAF1D44#32
  | 113 => 0xBF203C85#32
  | 114 => 0x3F7DCF55#32
  | 115 => 0xBECE34D0#32
  | 116 => 0xBF12D5E8#32
  | 117 => 0x3F7F73AF#32
  | 118 => 0xBEEC6A50#32
  | 119 => 0xBF04CE53#32
  | 120 => 0x3F800000#32
  | 121 => 0xBF04CE53#32
  | 122 => 0xBEEC6A50#32
  | 123 => 0x3F7F73AF#32
  | 124 => 0xBF12D5E8#32
  | 125 => 0xBECE34D0#32
  | 126 => 0x3F7DCF55#32
  | 127 => 0xBF203C85#32
  | _ => 0#32

noncomputable abbrev lit1t0_220 (i : Nat) : BitVec 32 := match i % 128 with
  | 0 => 0xBEAF1D44#32
  | 1 => 0x3F7B14BE#32
  | 2 => 0xBF2CF37B#32
  | 3 => 0xBE8F45C0#32
  | 4 => 0x3F7746EA#32
  | 5 => 0xBF38ECD8#32
  | 6 => 0xBE5DA259#32
  | 7 => 0x3F726A03#32
  | 8 => 0xBF441B7D#32
  | 9 => 0xBE1BC63C#32
  | 10 => 0x3F6C835E#32
  | 11 => 0xBF4E7327#32
  | 12 => 0xBDB27EB6#32
  | 13 => 0x3F659974#32
  | 14 => 0xBF57E880#32
  | 15 => 0xBCB2B521#32
  | 16 => 0x3F5DB3D7#32
  | 17 => 0xBF60712A#32
  | 18 => 0x3D32AA3E#32
  | 19 => 0x3F54DB31#32
  | 20 => 0xBF6803CA#32
  | 21 => 0x3DDEF599#32
  | 22 => 0x3F4B1934#32
  | 23 => 0xBF6E9811#32
  | 24 => 0x3E31D0D4#32
  | 25 => 0x3F407893#32
  | 26 => 0xBF7426CB#32
  | 27 => 0x3E7363EE#32
  | 28 => 0x3F3504F3#32
  | 29 => 0xBF78A9E0#32
  | 30 => 0x3E99F61C#32
  | 31 => 0x3F28CAE3#32
  | 32 => 0xBF7C1C5C#32
  | 33 => 0x3EB9917B#32
  | 34 => 0x3F1BD7CA#32
  | 35 => 0xBF7E7A7A#32
  | 36 => 0x3ED8616C#32
  | 37 => 0x3F0E39DA#32
  | 38 => 0xBF7FC1A0#32
  | 39 => 0x3EF64429#32
  | 40 => 0x3F000000#32
  | 41 => 0xBF7FF067#32
  | 42 => 0x3F098C78#32
  | 43 => 0x3EE273AA#32
  | 44 => 0xBF7F069E#32
  | 45 => 0x3F176012#32
  | 46 => 0x3EC3EF15#32
  | 47 => 0xBF7D0543#32
  | 48 => 0x3F248DBB#32
  | 49 => 0x3EA493B7#32
  | 50 => 0xBF79EE89#32
  | 51 => 0x3F310700#32
  | 52 => 0x3E8483EE#32
  | 53 => 0xBF75C5D4#32
  | 54 => 0x3F3CBE35#32
  | 55 => 0x3E47C5C2#32
  | 56 => 0xBF708FB2#32
  | 57 => 0x3F47A682#32
  | 58 => 0x3E05A8A8#32
  | 59 => 0xBF6A51DA#32
  | 60 => 0x3F51B3F3#32
  | 61 => 0x3D85F213#32
  | 62 => 0xBF631324#32
  | 63 => 0x3F5ADB81#32
  | 64 => 0x80000000#32
  | 65 => 0xBF57E880#32
  | 66 => 0x3F6803CA#32
  | 67 => 0xBE05A8A8#32
  | 68 => 0xBF441B7D#32
  | 69 => 0x3F7426CB#32
  | 70 => 0xBE8483EE#32
  | 71 => 0xBF2CF37B#32
  | 72 => 0x3F7C1C5C#32
  | 73 => 0xBEC3EF15#32
  | 74 => 0xBF12D5E8#32
  | 75 => 0x3F7FC1A0#32
  | 76 => 0xBF000000#32
  | 77 => 0xBEEC6A50#32
  | 78 => 0x3F7F069E#32
  | 79 => 0xBF1BD7CA#32
  | 80 => 0xBEAF1D44#32
  | 81 => 0x3F79EE89#32
  | 82 => 0xBF3504F3#32
  | 83 => 0xBE5DA259#32
  | 84 => 0x3F708FB2#32
  | 85 => 0xBF4B1934#32
  | 86 => 0xBDB27EB6#32
  | 87 => 0x3F631324#32
  | 88 => 0xBF5DB3D7#32
  | 89 => 0x3D32AA3E#32
  | 90 => 0x3F51B3F3#32
  | 91 => 0xBF6C835E#32
  | 92 => 0x3E31D0D4#32
  | 93 => 0x3F3CBE35#32
  | 94 => 0xBF7746EA#32
  | 95 => 0x3E99F61C#32
  | 96 => 0x3F248DBB#32
  | 97 => 0xBF7DCF55#32
  | 98 => 0x3ED8616C#32
  | 99 => 0x3F098C78#32
  | 100 => 0xBF800000#32
  | 101 => 0x3F098C78#32
  | 102 => 0x3ED8616C#32
  | 103 => 0xBF7DCF55#32
  | 104 => 0x3F248DBB#32
  | 105 => 0x3E99F61C#32
  | 106 => 0xBF7746EA#32
  | 107 => 0x3F3CBE35#32
  | 108 => 0x3E31D0D4#32
  | 109 => 0xBF6C835E#32
  | 110 => 0x3F51B3F3#32
  | 111 => 0x3D32AA3E#32
  | 112 => 0xBF5DB3D7#32
  | 113 => 0x3F631324#32
  | 114 => 0xBDB27EB6#32
  | 115 => 0xBF4B1934#32
  | 116 => 0x3F708FB2#32
  | 117 => 0xBE5DA259#32
  | 118 => 0xBF3504F3#32
  | 119 => 0x3F79EE89#32
  | 120 => 0xBEAF1D44#32
  | 121 => 0xBF1BD7CA#32
  | 122 => 0x3F7F069E#32
  | 123 => 0xBEEC6A50#32
  | 124 => 0xBF000000#32
  | 125 => 0x3F7FC1A0#32
  | 126 => 0xBF12D5E8#32
  | 127 => 0xBEC3EF15#32
  | _ => 0#32

noncomputable abbrev lit1t0_221 (i : Nat) : BitVec 32 := match i % 128 with
  | 0 => 0x3F7C1C5C#32
  | 1 => 0xBF2CF37B#32
  | 2 => 0xBE8483EE#32
  | 3 => 0x3F7426CB#32
  | 4 => 0xBF441B7D#32
  | 5 => 0xBE05A8A8#32
  | 6 => 0x3F6803CA#32
  | 7 => 0xBF57E880#32
  | 8 => 0xA50D3132#32
  | 9 => 0x3F57E880#32
  | 10 => 0xBF6803CA#32
  | 11 => 0x3E05A8A8#32
  | 12 => 0x3F441B7D#32
  | 13 => 0xBF7426CB#32
  | 14 => 0x3E8483EE#32
  | 15 => 0x3F2CF37B#32
  | 16 => 0xBF7C1C5C#32
  | 17 => 0x3EC3EF15#32
  | 18 => 0x3F12D5E8#32
  | 19 => 0xBF7FC1A0#32
  | 20 => 0x3F000000#32
  | 21 => 0x3EEC6A50#32
  | 22 => 0xBF7F069E#32
  | 23 => 0x3F1BD7CA#32
  | 24 => 0x3EAF1D44#32
  | 25 => 0xBF79EE89#32
  | 26 => 0x3F3504F3#32
  | 27 => 0x3E5DA259#32
  | 28 => 0xBF708FB2#32
  | 29 => 0x3F4B1934#32
  | 30 => 0x3DB27EB6#32
  | 31 => 0xBF631324#32
  | 32 => 0x3F5DB3D7#32
  | 33 => 0xBD32AA3E#32
  | 34 => 0xBF51B3F3#32
  | 35 => 0x3F6C835E#32
  | 36 => 0xBE31D0D4#32
  | 37 => 0xBF3CBE35#32
  | 38 => 0x3F7746EA#32
  | 39 => 0xBE99F61C#32
  | 40 => 0xBF248DBB#32
  | 41 => 0x3F7DCF55#32
  | 42 => 0xBED8616C#32
  | 43 => 0xBF098C78#32
  | 44 => 0x3F800000#32
  | 45 => 0xBF098C78#32
  | 46 => 0xBED8616C#32
  | 47 => 0x3F7DCF55#32
  | 48 => 0xBF248DBB#32
  | 49 => 0xBE99F61C#32
  | 50 => 0x3F7746EA#32
  | 51 => 0xBF3CBE35#32
  | 52 => 0xBE31D0D4#32
  | 53 => 0x3F6C835E#32
  | 54 => 0xBF51B3F3#32
  | 55 => 0xBD32AA3E#32
  | 56 => 0x3F5DB3D7#32
  | 57 => 0xBF631324#32
  | 58 => 0x3DB27EB6#32
  | 59 => 0x3F4B1934#32
  | 60 => 0xBF708FB2#32
  | 61 => 0x3E5DA259#32
  | 62 => 0x3F3504F3#32
  | 63 => 0xBF79EE89#32
  | 64 => 0x3EAF1D44#32
  | 65 => 0x3F1BD7CA#32
  | 66 => 0xBF7F069E#32
  | 67 => 0x3EEC6A50#32
  | 68 => 0x3F000000#32
  | 69 => 0xBF7FC1A0#32
  | 70 => 0x3F12D5E8#32
  | 71 => 0x3EC3EF15#32
  | 72 => 0xBF7C1C5C#32
  | 73 => 0x3F2CF37B#32
  | 74 => 0x3E8483EE#32
  | 75 => 0xBF7426CB#32
  | 76 => 0x3F441B7D#32
  | 77 => 0x3E05A8A8#32
  | 78 => 0xBF6803CA#32
  | 79 => 0x3F57E880#32
  | 80 => 0x80000000#32
  | 81 => 0xBF57E880#32
  | 82 => 0x3F6803CA#32
  | 83 => 0xBE05A8A8#32
  | 84 => 0xBF441B7D#32
  | 85 => 0x3F7426CB#32
  | 86 => 0xBE8483EE#32
  | 87 => 0xBF2CF37B#32
  | 88 => 0x3F7C1C5C#32
  | 89 => 0xBEC3EF15#32
  | 90 => 0xBF12D5E8#32
  | 91 => 0x3F7FC1A0#32
  | 92 => 0xBF000000#32
  | 93 => 0xBEEC6A50#32
  | 94 => 0x3F7F069E#32
  | 95 => 0xBF1BD7CA#32
  | 96 => 0xBEAF1D44#32
  | 97 => 0x3F79EE89#32
  | 98 => 0xBF3504F3#32
  | 99 => 0xBE5DA259#32
  | 100 => 0x3F708FB2#32
  | 101 => 0xBF4B1934#32
  | 102 => 0xBDB27EB6#32
  | 103 => 0x3F631324#32
  | 104 => 0xBF5DB3D7#32
  | 105 => 0x3D32AA3E#32
  | 106 => 0x3F51B3F3#32
  | 107 => 0xBF6C835E#32
  | 108 => 0x3E31D0D4#32
  | 109 => 0x3F3CBE35#32
  | 110 => 0xBF7746EA#32
  | 111 => 0x3E99F61C#32
  | 112 => 0x3F248DBB#32
  | 113 => 0xBF7DCF55#32
  | 114 => 0x3ED8616C#32
  | 115 => 0x3F098C78#32
  | 116 => 0xBF800000#32
  | 117 => 0x3F098C78#32
  | 118 => 0x3ED8616C#32
  | 119 => 0xBF7DCF55#32
  | 120 => 0x3F248DBB#32
  | 121 => 0x3E99F61C#32
  | 122 => 0xBF7746EA#32
  | 123 => 0x3F3CBE35#32
  | 124 => 0x3E31D0D4#32
  | 125 => 0xBF6C835E#32
  | 126 => 0x3F51B3F3#32
  | 127 => 0x3D32AA3E#32
  | _ => 0#32

noncomputable abbrev lit1t0_222 (i : Nat) : BitVec 32 := match i % 128 with
  | 0 => 0xBF5DB3D7#32
  | 1 => 0x3F631324#32
  | 2 => 0xBDB27EB6#32
  | 3 => 0xBF4B1934#32
  | 4 => 0x3F708FB2#32
  | 5 => 0xBE5DA259#32
  | 6 => 0xBF3504F3#32
  | 7 => 0x3F79EE89#32
  | 8 => 0xBEAF1D44#32
  | 9 => 0xBF1BD7CA#32
  | 10 => 0x3F7F069E#32
  | 11 => 0xBEEC6A50#32
  | 12 => 0xBF000000#32
  | 13 => 0x3F7FC1A0#32
  | 14 => 0xBF12D5E8#32
  | 15 => 0xBEC3EF15#32
  | 16 => 0x3F7C1C5C#32
  | 17 => 0xBF2CF37B#32
  | 18 => 0xBE8483EE#32
  | 19 => 0x3F7426CB#32
  | 20 => 0xBF441B7D#32
  | 21 => 0xBE05A8A8#32
  | 22 => 0x3F6803CA#32
  | 23 => 0xBF57E880#32
  | 24 => 0xA50D3132#32
  | 25 => 0x3F57E880#32
  | 26 => 0xBF6803CA#32
  | 27 => 0x3E05A8A8#32
  | 28 => 0x3F441B7D#32
  | 29 => 0xBF7426CB#32
  | 30 => 0x3E8483EE#32
  | 31 => 0x3F2CF37B#32
  | 32 => 0xBF7C1C5C#32
  | 33 => 0x3EC3EF15#32
  | 34 => 0x3F12D5E8#32
  | 35 => 0xBF7FC1A0#32
  | 36 => 0x3F000000#32
  | 37 => 0x3EEC6A50#32
  | 38 => 0xBF7F069E#32
  | 39 => 0x3F1BD7CA#32
  | 40 => 0x3EAF1D44#32
  | 41 => 0xBF79EE89#32
  | 42 => 0x3F3504F3#32
  | 43 => 0x3E5DA259#32
  | 44 => 0xBF708FB2#32
  | 45 => 0x3F4B1934#32
  | 46 => 0x3DB27EB6#32
  | 47 => 0xBF631324#32
  | 48 => 0x3F5DB3D7#32
  | 49 => 0xBD32AA3E#32
  | 50 => 0xBF51B3F3#32
  | 51 => 0x3F6C835E#32
  | 52 => 0xBE31D0D4#32
  | 53 => 0xBF3CBE35#32
  | 54 => 0x3F7746EA#32
  | 55 => 0xBE99F61C#32
  | 56 => 0xBF248DBB#32
  | 57 => 0x3F7DCF55#32
  | 58 => 0xBED8616C#32
  | 59 => 0xBF098C78#32
  | 60 => 0x3F800000#32
  | 61 => 0xBF098C78#32
  | 62 => 0xBED8616C#32
  | 63 => 0x3F7DCF55#32
  | 64 => 0xBF248DBB#32
  | 65 => 0xBE99F61C#32
  | 66 => 0x3F7746EA#32
  | 67 => 0xBF3CBE35#32
  | 68 => 0xBE31D0D4#32
  | 69 => 0x3F6C835E#32
  | 70 => 0xBF51B3F3#32
  | 71 => 0xBD32AA3E#32
  | 72 => 0x3F5DB3D7#32
  | 73 => 0xBF631324#32
  | 74 => 0x3DB27EB6#32
  | 75 => 0x3F4B1934#32
  | 76 => 0xBF708FB2#32
  | 77 => 0x3E5DA259#32
  | 78 => 0x3F3504F3#32
  | 79 => 0xBF79EE89#32
  | 80 => 0x3EAF1D44#32
  | 81 => 0x3F1BD7CA#32
  | 82 => 0xBF7F069E#32
  | 83 => 0x3EEC6A50#32
  | 84 => 0x3F000000#32
  | 85 => 0xBF7FC1A0#32
  | 86 => 0x3F12D5E8#32
  | 87 => 0x3EC3EF15#32
  | 88 => 0xBF7C1C5C#32
  | 89 => 0x3F2CF37B#32
  | 90 => 0x3E8483EE#32
  | 91 => 0xBF7426CB#32
  | 92 => 0x3F441B7D#32
  | 93 => 0x3E05A8A8#32
  | 94 => 0xBF6803CA#32
  | 95 => 0x3F57E880#32
  | 96 => 0x80000000#32
  | 97 => 0xBF54DB31#32
  | 98 => 0x3F6C835E#32
  | 99 => 0xBE47C5C2#32
  | 100 => 0xBF3504F3#32
  | 101 => 0x3F7B14BE#32
  | 102 => 0xBEC3EF15#32
  | 103 => 0xBF0E39DA#32
  | 104 => 0x3F800000#32
  | 105 => 0xBF0E39DA#32
  | 106 => 0xBEC3EF15#32
  | 107 => 0x3F7B14BE#32
  | 108 => 0xBF3504F3#32
  | 109 => 0xBE47C5C2#32
  | 110 => 0x3F6C835E#32
  | 111 => 0xBF54DB31#32
  | 112 => 0xA50D3132#32
  | 113 => 0x3F54DB31#32
  | 114 => 0xBF6C835E#32
  | 115 => 0x3E47C5C2#32
  | 116 => 0x3F3504F3#32
  | 117 => 0xBF7B14BE#32
  | 118 => 0x3EC3EF15#32
  | 119 => 0x3F0E39DA#32
  | 120 => 0xBF800000#32
  | 121 => 0x3F0E39DA#32
  | 122 => 0x3EC3EF15#32
  | 123 => 0xBF7B14BE#32
  | 124 => 0x3F3504F3#32
  | 125 => 0x3E47C5C2#32
  | 126 => 0xBF6C835E#32
  | 127 => 0x3F54DB31#32
  | _ => 0#32

noncomputable abbrev lit1t0_223 (i : Nat) : BitVec 32 := match i % 128 with
  | 0 => 0x80000000#32
  | 1 => 0xBF54DB31#32
  | 2 => 0x3F6C835E#32
  | 3 => 0xBE47C5C2#32
  | 4 => 0xBF3504F3#32
  | 5 => 0x3F7B14BE#32
  | 6 => 0xBEC3EF15#32
  | 7 => 0xBF0E39DA#32
  | 8 => 0x3F800000#32
  | 9 => 0xBF0E39DA#32
  | 10 => 0xBEC3EF15#32
  | 11 => 0x3F7B14BE#32
  | 12 => 0xBF3504F3#32
  | 13 => 0xBE47C5C2#32
  | 14 => 0x3F6C835E#32
  | 15 => 0xBF54DB31#32
  | 16 => 0xA50D3132#32
  | 17 => 0x3F54DB31#32
  | 18 => 0xBF6C835E#32
  | 19 => 0x3E47C5C2#32
  | 20 => 0x3F3504F3#32
  | 21 => 0xBF7B14BE#32
  | 22 => 0x3EC3EF15#32
  | 23 => 0x3F0E39DA#32
  | 24 => 0xBF800000#32
  | 25 => 0x3F0E39DA#32
  | 26 => 0x3EC3EF15#32
  | 27 => 0xBF7B14BE#32
  | 28 => 0x3F3504F3#32
  | 29 => 0x3E47C5C2#32
  | 30 => 0xBF6C835E#32
  | 31 => 0x3F54DB31#32
  | 32 => 0x80000000#32
  | 33 => 0xBF54DB31#32
  | 34 => 0x3F6C835E#32
  | 35 => 0xBE47C5C2#32
  | 36 => 0xBF3504F3#32
  | 37 => 0x3F7B14BE#32
  | 38 => 0xBEC3EF15#32
  | 39 => 0xBF0E39DA#32
  | 40 => 0x3F800000#32
  | 41 => 0xBF0E39DA#32
  | 42 => 0xBEC3EF15#32
  | 43 => 0x3F7B14BE#32
  | 44 => 0xBF3504F3#32
  | 45 => 0xBE47C5C2#32
  | 46 => 0x3F6C835E#32
  | 47 => 0xBF54DB31#32
  | 48 => 0xA50D3132#32
  | 49 => 0x3F54DB31#32
  | 50 => 0xBF6C835E#32
  | 51 => 0x3E47C5C2#32
  | 52 => 0x3F3504F3#32
  | 53 => 0xBF7B14BE#32
  | 54 => 0x3EC3EF15#32
  | 55 => 0x3F0E39DA#32
  | 56 => 0xBF800000#32
  | 57 => 0x3F0E39DA#32
  | 58 => 0x3EC3EF15#32
  | 59 => 0xBF7B14BE#32
  | 60 => 0x3F3504F3#32
  | 61 => 0x3E47C5C2#32
  | 62 => 0xBF6C835E#32
  | 63 => 0x3F54DB31#32
  | 64 => 0x80000000#32
  | 65 => 0xBF54DB31#32
  | 66 => 0x3F6C835E#32
  | 67 => 0xBE47C5C2#32
  | 68 => 0xBF3504F3#32
  | 69 => 0x3F7B14BE#32
  | 70 => 0xBEC3EF15#32
  | 71 => 0xBF0E39DA#32
  | 72 => 0x3F800000#32
  | 73 => 0xBF0E39DA#32
  | 74 => 0xBEC3EF15#32
  | 75 => 0x3F7B14BE#32
  | 76 => 0xBF3504F3#32
  | 77 => 0xBE47C5C2#32
  | 78 => 0x3F6C835E#32
  | 79 => 0xBF54DB31#32
  | 80 => 0xA50D3132#32
  | 81 => 0x3F54DB31#32
  | 82 => 0xBF6C835E#32
  | 83 => 0x3E47C5C2#32
  | 84 => 0x3F3504F3#32
  | 85 => 0xBF7B14BE#32
  | 86 => 0x3EC3EF15#32
  | 87 => 0x3F0E39DA#32
  | 88 => 0xBF800000#32
  | 89 => 0x3F0E39DA#32
  | 90 => 0x3EC3EF15#32
  | 91 => 0xBF7B14BE#32
  | 92 => 0x3F3504F3#32
  | 93 => 0x3E47C5C2#32
  | 94 => 0xBF6C835E#32
  | 95 => 0x3F54DB31#32
  | 96 => 0x80000000#32
  | 97 => 0xBF54DB31#32
  | 98 => 0x3F6C835E#32
  | 99 => 0xBE47C5C2#32
  | 100 => 0xBF3504F3#32
  | 101 => 0x3F7B14BE#32
  | 102 => 0xBEC3EF15#32
  | 103 => 0xBF0E39DA#32
  | 104 => 0x3F800000#32
  | 105 => 0xBF0E39DA#32
  | 106 => 0xBEC3EF15#32
  | 107 => 0x3F7B14BE#32
  | 108 => 0xBF3504F3#32
  | 109 => 0xBE47C5C2#32
  | 110 => 0x3F6C835E#32
  | 111 => 0xBF54DB31#32
  | 112 => 0xA50D3132#32
  | 113 => 0x3F54DB31#32
  | 114 => 0xBF6C835E#32
  | 115 => 0x3E47C5C2#32
  | 116 => 0x3F3504F3#32
  | 117 => 0xBF7B14BE#32
  | 118 => 0x3EC3EF15#32
  | 119 => 0x3F0E39DA#32
  | 120 => 0xBF800000#32
  | 121 => 0x3F0E39DA#32
  | 122 => 0x3EC3EF15#32
  | 123 => 0xBF7B14BE#32
  | 124 => 0x3F3504F3#32
  | 125 => 0x3E47C5C2#32
  | 126 => 0xBF6C835E#32
  | 127 => 0x3F54DB31#32
  | _ => 0#32

noncomputable abbrev lit1t0_224 (i : Nat) : BitVec 32 := match i % 128 with
  | 0 => 0x80000000#32
  | 1 => 0xBF54DB31#32
  | 2 => 0x3F6C835E#32
  | 3 => 0xBE47C5C2#32
  | 4 => 0xBF3504F3#32
  | 5 => 0x3F7B14BE#32
  | 6 => 0xBEC3EF15#32
  | 7 => 0xBF0E39DA#32
  | 8 => 0x3F800000#32
  | 9 => 0xBF0E39DA#32
  | 10 => 0xBEC3EF15#32
  | 11 => 0x3F7B14BE#32
  | 12 => 0xBF3504F3#32
  | 13 => 0xBE47C5C2#32
  | 14 => 0x3F6C835E#32
  | 15 => 0xBF54DB31#32
  | 16 => 0xA50D3132#32
  | 17 => 0x3F54DB31#32
  | 18 => 0xBF6C835E#32
  | 19 => 0x3E47C5C2#32
  | 20 => 0x3F3504F3#32
  | 21 => 0xBF7B14BE#32
  | 22 => 0x3EC3EF15#32
  | 23 => 0x3F0E39DA#32
  | 24 => 0xBF800000#32
  | 25 => 0x3F0E39DA#32
  | 26 => 0x3EC3EF15#32
  | 27 => 0xBF7B14BE#32
  | 28 => 0x3F3504F3#32
  | 29 => 0x3E47C5C2#32
  | 30 => 0xBF6C835E#32
  | 31 => 0x3F54DB31#32
  | 32 => 0x80000000#32
  | 33 => 0xBF54DB31#32
  | 34 => 0x3F6C835E#32
  | 35 => 0xBE47C5C2#32
  | 36 => 0xBF3504F3#32
  | 37 => 0x3F7B14BE#32
  | 38 => 0xBEC3EF15#32
  | 39 => 0xBF0E39DA#32
  | 40 => 0x3F800000#32
  | 41 => 0xBF0E39DA#32
  | 42 => 0xBEC3EF15#32
  | 43 => 0x3F7B14BE#32
  | 44 => 0xBF3504F3#32
  | 45 => 0xBE47C5C2#32
  | 46 => 0x3F6C835E#32
  | 47 => 0xBF54DB31#32
  | 48 => 0xA50D3132#32
  | 49 => 0x3F54DB31#32
  | 50 => 0xBF6C835E#32
  | 51 => 0x3E47C5C2#32
  | 52 => 0x3F3504F3#32
  | 53 => 0xBF7B14BE#32
  | 54 => 0x3EC3EF15#32
  | 55 => 0x3F0E39DA#32
  | 56 => 0xBF800000#32
  | 57 => 0x3F0E39DA#32
  | 58 => 0x3EC3EF15#32
  | 59 => 0xBF7B14BE#32
  | 60 => 0x3F3504F3#32
  | 61 => 0x3E47C5C2#32
  | 62 => 0xBF6C835E#32
  | 63 => 0x3F54DB31#32
  | 64 => 0x80000000#32
  | 65 => 0xBF54DB31#32
  | 66 => 0x3F6C835E#32
  | 67 => 0xBE47C5C2#32
  | 68 => 0xBF3504F3#32
  | 69 => 0x3F7B14BE#32
  | 70 => 0xBEC3EF15#32
  | 71 => 0xBF0E39DA#32
  | 72 => 0x3F800000#32
  | 73 => 0xBF0E39DA#32
  | 74 => 0xBEC3EF15#32
  | 75 => 0x3F7B14BE#32
  | 76 => 0xBF3504F3#32
  | 77 => 0xBE47C5C2#32
  | 78 => 0x3F6C835E#32
  | 79 => 0xBF54DB31#32
  | 80 => 0xA50D3132#32
  | 81 => 0x3F54DB31#32
  | 82 => 0xBF6C835E#32
  | 83 => 0x3E47C5C2#32
  | 84 => 0x3F3504F3#32
  | 85 => 0xBF7B14BE#32
  | 86 => 0x3EC3EF15#32
  | 87 => 0x3F0E39DA#32
  | 88 => 0xBF800000#32
  | 89 => 0x3F0E39DA#32
  | 90 => 0x3EC3EF15#32
  | 91 => 0xBF7B14BE#32
  | 92 => 0x3F3504F3#32
  | 93 => 0x3E47C5C2#32
  | 94 => 0xBF6C835E#32
  | 95 => 0x3F54DB31#32
  | 96 => 0x80000000#32
  | 97 => 0xBF54DB31#32
  | 98 => 0x3F6C835E#32
  | 99 => 0xBE47C5C2#32
  | 100 => 0xBF3504F3#32
  | 101 => 0x3F7B14BE#32
  | 102 => 0xBEC3EF15#32
  | 103 => 0xBF0E39DA#32
  | 104 => 0x3F800000#32
  | 105 => 0xBF0E39DA#32
  | 106 => 0xBEC3EF15#32
  | 107 => 0x3F7B14BE#32
  | 108 => 0xBF3504F3#32
  | 109 => 0xBE47C5C2#32
  | 110 => 0x3F6C835E#32
  | 111 => 0xBF54DB31#32
  | 112 => 0xA50D3132#32
  | 113 => 0x3F54DB31#32
  | 114 => 0xBF6C835E#32
  | 115 => 0x3E47C5C2#32
  | 116 => 0x3F3504F3#32
  | 117 => 0xBF7B14BE#32
  | 118 => 0x3EC3EF15#32
  | 119 => 0x3F0E39DA#32
  | 120 => 0xBF800000#32
  | 121 => 0x3F0E39DA#32
  | 122 => 0x3EC3EF15#32
  | 123 => 0xBF7B14BE#32
  | 124 => 0x3F3504F3#32
  | 125 => 0x3E47C5C2#32
  | 126 => 0xBF6C835E#32
  | 127 => 0x3F54DB31#32
  | _ => 0#32

noncomputable abbrev lit1t0_225 (i : Nat) : BitVec 32 := match i % 128 with
  | 0 => 0x80000000#32
  | 1 => 0xBF51B3F3#32
  | 2 => 0x3F708FB2#32
  | 3 => 0xBE8483EE#32
  | 4 => 0xBF248DBB#32
  | 5 => 0x3F7F069E#32
  | 6 => 0xBF000000#32
  | 7 => 0xBED8616C#32
  | 8 => 0x3F7C1C5C#32
  | 9 => 0xBF3504F3#32
  | 10 => 0xBE31D0D4#32
  | 11 => 0x3F6803CA#32
  | 12 => 0xBF5DB3D7#32
  | 13 => 0x3DB27EB6#32
  | 14 => 0x3F441B7D#32
  | 15 => 0xBF7746EA#32
  | 16 => 0x3EAF1D44#32
  | 17 => 0x3F12D5E8#32
  | 18 => 0xBF800000#32
  | 19 => 0x3F12D5E8#32
  | 20 => 0x3EAF1D44#32
  | 21 => 0xBF7746EA#32
  | 22 => 0x3F441B7D#32
  | 23 => 0x3DB27EB6#32
  | 24 => 0xBF5DB3D7#32
  | 25 => 0x3F6803CA#32
  | 26 => 0xBE31D0D4#32
  | 27 => 0xBF3504F3#32
  | 28 => 0x3F7C1C5C#32
  | 29 => 0xBED8616C#32
  | 30 => 0xBF000000#32
  | 31 => 0x3F7F069E#32
  | 32 => 0xBF248DBB#32
  | 33 => 0xBE8483EE#32
  | 34 => 0x3F708FB2#32
  | 35 => 0xBF51B3F3#32
  | 36 => 0xA50D3132#32
  | 37 => 0x3F51B3F3#32
  | 38 => 0xBF708FB2#32
  | 39 => 0x3E8483EE#32
  | 40 => 0x3F248DBB#32
  | 41 => 0xBF7F069E#32
  | 42 => 0x3F000000#32
  | 43 => 0x3ED8616C#32
  | 44 => 0xBF7C1C5C#32
  | 45 => 0x3F3504F3#32
  | 46 => 0x3E31D0D4#32
  | 47 => 0xBF6803CA#32
  | 48 => 0x3F5DB3D7#32
  | 49 => 0xBDB27EB6#32
  | 50 => 0xBF441B7D#32
  | 51 => 0x3F7746EA#32
  | 52 => 0xBEAF1D44#32
  | 53 => 0xBF12D5E8#32
  | 54 => 0x3F800000#32
  | 55 => 0xBF12D5E8#32
  | 56 => 0xBEAF1D44#32
  | 57 => 0x3F7746EA#32
  | 58 => 0xBF441B7D#32
  | 59 => 0xBDB27EB6#32
  | 60 => 0x3F5DB3D7#32
  | 61 => 0xBF6803CA#32
  | 62 => 0x3E31D0D4#32
  | 63 => 0x3F3504F3#32
  | 64 => 0xBF7C1C5C#32
  | 65 => 0x3ED8616C#32
  | 66 => 0x3F000000#32
  | 67 => 0xBF7F069E#32
  | 68 => 0x3F248DBB#32
  | 69 => 0x3E8483EE#32
  | 70 => 0xBF708FB2#32
  | 71 => 0x3F51B3F3#32
  | 72 => 0x80000000#32
  | 73 => 0xBF51B3F3#32
  | 74 => 0x3F708FB2#32
  | 75 => 0xBE8483EE#32
  | 76 => 0xBF248DBB#32
  | 77 => 0x3F7F069E#32
  | 78 => 0xBF000000#32
  | 79 => 0xBED8616C#32
  | 80 => 0x3F7C1C5C#32
  | 81 => 0xBF3504F3#32
  | 82 => 0xBE31D0D4#32
  | 83 => 0x3F6803CA#32
  | 84 => 0xBF5DB3D7#32
  | 85 => 0x3DB27EB6#32
  | 86 => 0x3F441B7D#32
  | 87 => 0xBF7746EA#32
  | 88 => 0x3EAF1D44#32
  | 89 => 0x3F12D5E8#32
  | 90 => 0xBF800000#32
  | 91 => 0x3F12D5E8#32
  | 92 => 0x3EAF1D44#32
  | 93 => 0xBF7746EA#32
  | 94 => 0x3F441B7D#32
  | 95 => 0x3DB27EB6#32
  | 96 => 0xBF5DB3D7#32
  | 97 => 0x3F6803CA#32
  | 98 => 0xBE31D0D4#32
  | 99 => 0xBF3504F3#32
  | 100 => 0x3F7C1C5C#32
  | 101 => 0xBED8616C#32
  | 102 => 0xBF000000#32
  | 103 => 0x3F7F069E#32
  | 104 => 0xBF248DBB#32
  | 105 => 0xBE8483EE#32
  | 106 => 0x3F708FB2#32
  | 107 => 0xBF51B3F3#32
  | 108 => 0xA50D3132#32
  | 109 => 0x3F51B3F3#32
  | 110 => 0xBF708FB2#32
  | 111 => 0x3E8483EE#32
  | 112 => 0x3F248DBB#32
  | 113 => 0xBF7F069E#32
  | 114 => 0x3F000000#32
  | 115 => 0x3ED8616C#32
  | 116 => 0xBF7C1C5C#32
  | 117 => 0x3F3504F3#32
  | 118 => 0x3E31D0D4#32
  | 119 => 0xBF6803CA#32
  | 120 => 0x3F5DB3D7#32
  | 121 => 0xBDB27EB6#32
  | 122 => 0xBF441B7D#32
  | 123 => 0x3F7746EA#32
  | 124 => 0xBEAF1D44#32
  | 125 => 0xBF12D5E8#32
  | 126 => 0x3F800000#32
  | 127 => 0xBF12D5E8#32
  | _ => 0#32

noncomputable abbrev lit1t0_226 (i : Nat) : BitVec 32 := match i % 128 with
  | 0 => 0xBEAF1D44#32
  | 1 => 0x3F7746EA#32
  | 2 => 0xBF441B7D#32
  | 3 => 0xBDB27EB6#32
  | 4 => 0x3F5DB3D7#32
  | 5 => 0xBF6803CA#32
  | 6 => 0x3E31D0D4#32
  | 7 => 0x3F3504F3#32
  | 8 => 0xBF7C1C5C#32
  | 9 => 0x3ED8616C#32
  | 10 => 0x3F000000#32
  | 11 => 0xBF7F069E#32
  | 12 => 0x3F248DBB#32
  | 13 => 0x3E8483EE#32
  | 14 => 0xBF708FB2#32
  | 15 => 0x3F51B3F3#32
  | 16 => 0x80000000#32
  | 17 => 0xBF51B3F3#32
  | 18 => 0x3F708FB2#32
  | 19 => 0xBE8483EE#32
  | 20 => 0xBF248DBB#32
  | 21 => 0x3F7F069E#32
  | 22 => 0xBF000000#32
  | 23 => 0xBED8616C#32
  | 24 => 0x3F7C1C5C#32
  | 25 => 0xBF3504F3#32
  | 26 => 0xBE31D0D4#32
  | 27 => 0x3F6803CA#32
  | 28 => 0xBF5DB3D7#32
  | 29 => 0x3DB27EB6#32
  | 30 => 0x3F441B7D#32
  | 31 => 0xBF7746EA#32
  | 32 => 0x3EAF1D44#32
  | 33 => 0x3F12D5E8#32
  | 34 => 0xBF800000#32
  | 35 => 0x3F12D5E8#32
  | 36 => 0x3EAF1D44#32
  | 37 => 0xBF7746EA#32
  | 38 => 0x3F441B7D#32
  | 39 => 0x3DB27EB6#32
  | 40 => 0xBF5DB3D7#32
  | 41 => 0x3F6803CA#32
  | 42 => 0xBE31D0D4#32
  | 43 => 0xBF3504F3#32
  | 44 => 0x3F7C1C5C#32
  | 45 => 0xBED8616C#32
  | 46 => 0xBF000000#32
  | 47 => 0x3F7F069E#32
  | 48 => 0xBF248DBB#32
  | 49 => 0xBE8483EE#32
  | 50 => 0x3F708FB2#32
  | 51 => 0xBF51B3F3#32
  | 52 => 0xA50D3132#32
  | 53 => 0x3F51B3F3#32
  | 54 => 0xBF708FB2#32
  | 55 => 0x3E8483EE#32
  | 56 => 0x3F248DBB#32
  | 57 => 0xBF7F069E#32
  | 58 => 0x3F000000#32
  | 59 => 0x3ED8616C#32
  | 60 => 0xBF7C1C5C#32
  | 61 => 0x3F3504F3#32
  | 62 => 0x3E31D0D4#32
  | 63 => 0xBF6803CA#32
  | 64 => 0x3F5DB3D7#32
  | 65 => 0xBDB27EB6#32
  | 66 => 0xBF441B7D#32
  | 67 => 0x3F7746EA#32
  | 68 => 0xBEAF1D44#32
  | 69 => 0xBF12D5E8#32
  | 70 => 0x3F800000#32
  | 71 => 0xBF12D5E8#32
  | 72 => 0xBEAF1D44#32
  | 73 => 0x3F7746EA#32
  | 74 => 0xBF441B7D#32
  | 75 => 0xBDB27EB6#32
  | 76 => 0x3F5DB3D7#32
  | 77 => 0xBF6803CA#32
  | 78 => 0x3E31D0D4#32
  | 79 => 0x3F3504F3#32
  | 80 => 0xBF7C1C5C#32
  | 81 => 0x3ED8616C#32
  | 82 => 0x3F000000#32
  | 83 => 0xBF7F069E#32
  | 84 => 0x3F248DBB#32
  | 85 => 0x3E8483EE#32
  | 86 => 0xBF708FB2#32
  | 87 => 0x3F51B3F3#32
  | 88 => 0x80000000#32
  | 89 => 0xBF51B3F3#32
  | 90 => 0x3F708FB2#32
  | 91 => 0xBE8483EE#32
  | 92 => 0xBF248DBB#32
  | 93 => 0x3F7F069E#32
  | 94 => 0xBF000000#32
  | 95 => 0xBED8616C#32
  | 96 => 0x3F7C1C5C#32
  | 97 => 0xBF3504F3#32
  | 98 => 0xBE31D0D4#32
  | 99 => 0x3F6803CA#32
  | 100 => 0xBF5DB3D7#32
  | 101 => 0x3DB27EB6#32
  | 102 => 0x3F441B7D#32
  | 103 => 0xBF7746EA#32
  | 104 => 0x3EAF1D44#32
  | 105 => 0x3F12D5E8#32
  | 106 => 0xBF800000#32
  | 107 => 0x3F12D5E8#32
  | 108 => 0x3EAF1D44#32
  | 109 => 0xBF7746EA#32
  | 110 => 0x3F441B7D#32
  | 111 => 0x3DB27EB6#32
  | 112 => 0xBF5DB3D7#32
  | 113 => 0x3F6803CA#32
  | 114 => 0xBE31D0D4#32
  | 115 => 0xBF3504F3#32
  | 116 => 0x3F7C1C5C#32
  | 117 => 0xBED8616C#32
  | 118 => 0xBF000000#32
  | 119 => 0x3F7F069E#32
  | 120 => 0xBF248DBB#32
  | 121 => 0xBE8483EE#32
  | 122 => 0x3F708FB2#32
  | 123 => 0xBF51B3F3#32
  | 124 => 0xA50D3132#32
  | 125 => 0x3F51B3F3#32
  | 126 => 0xBF708FB2#32
  | 127 => 0x3E8483EE#32
  | _ => 0#32

noncomputable abbrev lit1t0_227 (i : Nat) : BitVec 32 := match i % 128 with
  | 0 => 0x3F248DBB#32
  | 1 => 0xBF7F069E#32
  | 2 => 0x3F000000#32
  | 3 => 0x3ED8616C#32
  | 4 => 0xBF7C1C5C#32
  | 5 => 0x3F3504F3#32
  | 6 => 0x3E31D0D4#32
  | 7 => 0xBF6803CA#32
  | 8 => 0x3F5DB3D7#32
  | 9 => 0xBDB27EB6#32
  | 10 => 0xBF441B7D#32
  | 11 => 0x3F7746EA#32
  | 12 => 0xBEAF1D44#32
  | 13 => 0xBF12D5E8#32
  | 14 => 0x3F800000#32
  | 15 => 0xBF12D5E8#32
  | 16 => 0xBEAF1D44#32
  | 17 => 0x3F7746EA#32
  | 18 => 0xBF441B7D#32
  | 19 => 0xBDB27EB6#32
  | 20 => 0x3F5DB3D7#32
  | 21 => 0xBF6803CA#32
  | 22 => 0x3E31D0D4#32
  | 23 => 0x3F3504F3#32
  | 24 => 0xBF7C1C5C#32
  | 25 => 0x3ED8616C#32
  | 26 => 0x3F000000#32
  | 27 => 0xBF7F069E#32
  | 28 => 0x3F248DBB#32
  | 29 => 0x3E8483EE#32
  | 30 => 0xBF708FB2#32
  | 31 => 0x3F51B3F3#32
  | 32 => 0x80000000#32
  | 33 => 0xBF4E7327#32
  | 34 => 0x3F7426CB#32
  | 35 => 0xBEA493B7#32
  | 36 => 0xBF12D5E8#32
  | 37 => 0x3F7FF067#32
  | 38 => 0xBF1BD7CA#32
  | 39 => 0xBE8F45C0#32
  | 40 => 0x3F708FB2#32
  | 41 => 0xBF54DB31#32
  | 42 => 0x3D32AA3E#32
  | 43 => 0x3F47A682#32
  | 44 => 0xBF7746EA#32
  | 45 => 0x3EB9917B#32
  | 46 => 0x3F098C78#32
  | 47 => 0xBF7F73AF#32
  | 48 => 0x3F248DBB#32
  | 49 => 0x3E7363EE#32
  | 50 => 0xBF6C835E#32
  | 51 => 0x3F5ADB81#32
  | 52 => 0xBDB27EB6#32
  | 53 => 0xBF407893#32
  | 54 => 0x3F79EE89#32
  | 55 => 0xBECE34D0#32
  | 56 => 0xBF000000#32
  | 57 => 0x3F7E7A7A#32
  | 58 => 0xBF2CF37B#32
  | 59 => 0xBE47C5C2#32
  | 60 => 0x3F6803CA#32
  | 61 => 0xBF60712A#32
  | 62 => 0x3E05A8A8#32
  | 63 => 0x3F38ECD8#32
  | 64 => 0xBF7C1C5C#32
  | 65 => 0x3EE273AA#32
  | 66 => 0x3EEC6A50#32
  | 67 => 0xBF7D0543#32
  | 68 => 0x3F3504F3#32
  | 69 => 0x3E1BC63C#32
  | 70 => 0xBF631324#32
  | 71 => 0x3F659974#32
  | 72 => 0xBE31D0D4#32
  | 73 => 0xBF310700#32
  | 74 => 0x3F7DCF55#32
  | 75 => 0xBEF64429#32
  | 76 => 0xBED8616C#32
  | 77 => 0x3F7B14BE#32
  | 78 => 0xBF3CBE35#32
  | 79 => 0xBDDEF599#32
  | 80 => 0x3F5DB3D7#32
  | 81 => 0xBF6A51DA#32
  | 82 => 0x3E5DA259#32
  | 83 => 0x3F28CAE3#32
  | 84 => 0xBF7F069E#32
  | 85 => 0x3F04CE53#32
  | 86 => 0x3EC3EF15#32
  | 87 => 0xBF78A9E0#32
  | 88 => 0x3F441B7D#32
  | 89 => 0x3D85F213#32
  | 90 => 0xBF57E880#32
  | 91 => 0x3F6E9811#32
  | 92 => 0xBE8483EE#32
  | 93 => 0xBF203C85#32
  | 94 => 0x3F7FC1A0#32
  | 95 => 0xBF0E39DA#32
  | 96 => 0xBEAF1D44#32
  | 97 => 0x3F75C5D4#32
  | 98 => 0xBF4B1934#32
  | 99 => 0xBCB2B521#32
  | 100 => 0x3F51B3F3#32
  | 101 => 0xBF726A03#32
  | 102 => 0x3E99F61C#32
  | 103 => 0x3F176012#32
  | 104 => 0xBF800000#32
  | 105 => 0x3F176012#32
  | 106 => 0x3E99F61C#32
  | 107 => 0xBF726A03#32
  | 108 => 0x3F51B3F3#32
  | 109 => 0xBCB2B521#32
  | 110 => 0xBF4B1934#32
  | 111 => 0x3F75C5D4#32
  | 112 => 0xBEAF1D44#32
  | 113 => 0xBF0E39DA#32
  | 114 => 0x3F7FC1A0#32
  | 115 => 0xBF203C85#32
  | 116 => 0xBE8483EE#32
  | 117 => 0x3F6E9811#32
  | 118 => 0xBF57E880#32
  | 119 => 0x3D85F213#32
  | 120 => 0x3F441B7D#32
  | 121 => 0xBF78A9E0#32
  | 122 => 0x3EC3EF15#32
  | 123 => 0x3F04CE53#32
  | 124 => 0xBF7F069E#32
  | 125 => 0x3F28CAE3#32
  | 126 => 0x3E5DA259#32
  | 127 => 0xBF6A51DA#32
  | _ => 0#32

noncomputable abbrev lit1t0_228 (i : Nat) : BitVec 32 := match i % 128 with
  | 0 => 0x3F5DB3D7#32
  | 1 => 0xBDDEF599#32
  | 2 => 0xBF3CBE35#32
  | 3 => 0x3F7B14BE#32
  | 4 => 0xBED8616C#32
  | 5 => 0xBEF64429#32
  | 6 => 0x3F7DCF55#32
  | 7 => 0xBF310700#32
  | 8 => 0xBE31D0D4#32
  | 9 => 0x3F659974#32
  | 10 => 0xBF631324#32
  | 11 => 0x3E1BC63C#32
  | 12 => 0x3F3504F3#32
  | 13 => 0xBF7D0543#32
  | 14 => 0x3EEC6A50#32
  | 15 => 0x3EE273AA#32
  | 16 => 0xBF7C1C5C#32
  | 17 => 0x3F38ECD8#32
  | 18 => 0x3E05A8A8#32
  | 19 => 0xBF60712A#32
  | 20 => 0x3F6803CA#32
  | 21 => 0xBE47C5C2#32
  | 22 => 0xBF2CF37B#32
  | 23 => 0x3F7E7A7A#32
  | 24 => 0xBF000000#32
  | 25 => 0xBECE34D0#32
  | 26 => 0x3F79EE89#32
  | 27 => 0xBF407893#32
  | 28 => 0xBDB27EB6#32
  | 29 => 0x3F5ADB81#32
  | 30 => 0xBF6C835E#32
  | 31 => 0x3E7363EE#32
  | 32 => 0x3F248DBB#32
  | 33 => 0xBF7F73AF#32
  | 34 => 0x3F098C78#32
  | 35 => 0x3EB9917B#32
  | 36 => 0xBF7746EA#32
  | 37 => 0x3F47A682#32
  | 38 => 0x3D32AA3E#32
  | 39 => 0xBF54DB31#32
  | 40 => 0x3F708FB2#32
  | 41 => 0xBE8F45C0#32
  | 42 => 0xBF1BD7CA#32
  | 43 => 0x3F7FF067#32
  | 44 => 0xBF12D5E8#32
  | 45 => 0xBEA493B7#32
  | 46 => 0x3F7426CB#32
  | 47 => 0xBF4E7327#32
  | 48 => 0xA50D3132#32
  | 49 => 0x3F4E7327#32
  | 50 => 0xBF7426CB#32
  | 51 => 0x3EA493B7#32
  | 52 => 0x3F12D5E8#32
  | 53 => 0xBF7FF067#32
  | 54 => 0x3F1BD7CA#32
  | 55 => 0x3E8F45C0#32
  | 56 => 0xBF708FB2#32
  | 57 => 0x3F54DB31#32
  | 58 => 0xBD32AA3E#32
  | 59 => 0xBF47A682#32
  | 60 => 0x3F7746EA#32
  | 61 => 0xBEB9917B#32
  | 62 => 0xBF098C78#32
  | 63 => 0x3F7F73AF#32
  | 64 => 0xBF248DBB#32
  | 65 => 0xBE7363EE#32
  | 66 => 0x3F6C835E#32
  | 67 => 0xBF5ADB81#32
  | 68 => 0x3DB27EB6#32
  | 69 => 0x3F407893#32
  | 70 => 0xBF79EE89#32
  | 71 => 0x3ECE34D0#32
  | 72 => 0x3F000000#32
  | 73 => 0xBF7E7A7A#32
  | 74 => 0x3F2CF37B#32
  | 75 => 0x3E47C5C2#32
  | 76 => 0xBF6803CA#32
  | 77 => 0x3F60712A#32
  | 78 => 0xBE05A8A8#32
  | 79 => 0xBF38ECD8#32
  | 80 => 0x3F7C1C5C#32
  | 81 => 0xBEE273AA#32
  | 82 => 0xBEEC6A50#32
  | 83 => 0x3F7D0543#32
  | 84 => 0xBF3504F3#32
  | 85 => 0xBE1BC63C#32
  | 86 => 0x3F631324#32
  | 87 => 0xBF659974#32
  | 88 => 0x3E31D0D4#32
  | 89 => 0x3F310700#32
  | 90 => 0xBF7DCF55#32
  | 91 => 0x3EF64429#32
  | 92 => 0x3ED8616C#32
  | 93 => 0xBF7B14BE#32
  | 94 => 0x3F3CBE35#32
  | 95 => 0x3DDEF599#32
  | 96 => 0xBF5DB3D7#32
  | 97 => 0x3F6A51DA#32
  | 98 => 0xBE5DA259#32
  | 99 => 0xBF28CAE3#32
  | 100 => 0x3F7F069E#32
  | 101 => 0xBF04CE53#32
  | 102 => 0xBEC3EF15#32
  | 103 => 0x3F78A9E0#32
  | 104 => 0xBF441B7D#32
  | 105 => 0xBD85F213#32
  | 106 => 0x3F57E880#32
  | 107 => 0xBF6E9811#32
  | 108 => 0x3E8483EE#32
  | 109 => 0x3F203C85#32
  | 110 => 0xBF7FC1A0#32
  | 111 => 0x3F0E39DA#32
  | 112 => 0x3EAF1D44#32
  | 113 => 0xBF75C5D4#32
  | 114 => 0x3F4B1934#32
  | 115 => 0x3CB2B521#32
  | 116 => 0xBF51B3F3#32
  | 117 => 0x3F726A03#32
  | 118 => 0xBE99F61C#32
  | 119 => 0xBF176012#32
  | 120 => 0x3F800000#32
  | 121 => 0xBF176012#32
  | 122 => 0xBE99F61C#32
  | 123 => 0x3F726A03#32
  | 124 => 0xBF51B3F3#32
  | 125 => 0x3CB2B521#32
  | 126 => 0x3F4B1934#32
  | 127 => 0xBF75C5D4#32
  | _ => 0#32

noncomputable abbrev lit1t0_229 (i : Nat) : BitVec 32 := match i % 128 with
  | 0 => 0x3EAF1D44#32
  | 1 => 0x3F0E39DA#32
  | 2 => 0xBF7FC1A0#32
  | 3 => 0x3F203C85#32
  | 4 => 0x3E8483EE#32
  | 5 => 0xBF6E9811#32
  | 6 => 0x3F57E880#32
  | 7 => 0xBD85F213#32
  | 8 => 0xBF441B7D#32
  | 9 => 0x3F78A9E0#32
  | 10 => 0xBEC3EF15#32
  | 11 => 0xBF04CE53#32
  | 12 => 0x3F7F069E#32
  | 13 => 0xBF28CAE3#32
  | 14 => 0xBE5DA259#32
  | 15 => 0x3F6A51DA#32
  | 16 => 0xBF5DB3D7#32
  | 17 => 0x3DDEF599#32
  | 18 => 0x3F3CBE35#32
  | 19 => 0xBF7B14BE#32
  | 20 => 0x3ED8616C#32
  | 21 => 0x3EF64429#32
  | 22 => 0xBF7DCF55#32
  | 23 => 0x3F310700#32
  | 24 => 0x3E31D0D4#32
  | 25 => 0xBF659974#32
  | 26 => 0x3F631324#32
  | 27 => 0xBE1BC63C#32
  | 28 => 0xBF3504F3#32
  | 29 => 0x3F7D0543#32
  | 30 => 0xBEEC6A50#32
  | 31 => 0xBEE273AA#32
  | 32 => 0x3F7C1C5C#32
  | 33 => 0xBF38ECD8#32
  | 34 => 0xBE05A8A8#32
  | 35 => 0x3F60712A#32
  | 36 => 0xBF6803CA#32
  | 37 => 0x3E47C5C2#32
  | 38 => 0x3F2CF37B#32
  | 39 => 0xBF7E7A7A#32
  | 40 => 0x3F000000#32
  | 41 => 0x3ECE34D0#32
  | 42 => 0xBF79EE89#32
  | 43 => 0x3F407893#32
  | 44 => 0x3DB27EB6#32
  | 45 => 0xBF5ADB81#32
  | 46 => 0x3F6C835E#32
  | 47 => 0xBE7363EE#32
  | 48 => 0xBF248DBB#32
  | 49 => 0x3F7F73AF#32
  | 50 => 0xBF098C78#32
  | 51 => 0xBEB9917B#32
  | 52 => 0x3F7746EA#32
  | 53 => 0xBF47A682#32
  | 54 => 0xBD32AA3E#32
  | 55 => 0x3F54DB31#32
  | 56 => 0xBF708FB2#32
  | 57 => 0x3E8F45C0#32
  | 58 => 0x3F1BD7CA#32
  | 59 => 0xBF7FF067#32
  | 60 => 0x3F12D5E8#32
  | 61 => 0x3EA493B7#32
  | 62 => 0xBF7426CB#32
  | 63 => 0x3F4E7327#32
  | 64 => 0x80000000#32
  | 65 => 0xBF4B1934#32
  | 66 => 0x3F7746EA#32
  | 67 => 0xBEC3EF15#32
  | 68 => 0xBF000000#32
  | 69 => 0x3F7DCF55#32
  | 70 => 0xBF3504F3#32
  | 71 => 0xBE05A8A8#32
  | 72 => 0x3F5DB3D7#32
  | 73 => 0xBF6C835E#32
  | 74 => 0x3E8483EE#32
  | 75 => 0x3F1BD7CA#32
  | 76 => 0xBF800000#32
  | 77 => 0x3F1BD7CA#32
  | 78 => 0x3E8483EE#32
  | 79 => 0xBF6C835E#32
  | 80 => 0x3F5DB3D7#32
  | 81 => 0xBE05A8A8#32
  | 82 => 0xBF3504F3#32
  | 83 => 0x3F7DCF55#32
  | 84 => 0xBF000000#32
  | 85 => 0xBEC3EF15#32
  | 86 => 0x3F7746EA#32
  | 87 => 0xBF4B1934#32
  | 88 => 0xA50D3132#32
  | 89 => 0x3F4B1934#32
  | 90 => 0xBF7746EA#32
  | 91 => 0x3EC3EF15#32
  | 92 => 0x3F000000#32
  | 93 => 0xBF7DCF55#32
  | 94 => 0x3F3504F3#32
  | 95 => 0x3E05A8A8#32
  | 96 => 0xBF5DB3D7#32
  | 97 => 0x3F6C835E#32
  | 98 => 0xBE8483EE#32
  | 99 => 0xBF1BD7CA#32
  | 100 => 0x3F800000#32
  | 101 => 0xBF1BD7CA#32
  | 102 => 0xBE8483EE#32
  | 103 => 0x3F6C835E#32
  | 104 => 0xBF5DB3D7#32
  | 105 => 0x3E05A8A8#32
  | 106 => 0x3F3504F3#32
  | 107 => 0xBF7DCF55#32
  | 108 => 0x3F000000#32
  | 109 => 0x3EC3EF15#32
  | 110 => 0xBF7746EA#32
  | 111 => 0x3F4B1934#32
  | 112 => 0x80000000#32
  | 113 => 0xBF4B1934#32
  | 114 => 0x3F7746EA#32
  | 115 => 0xBEC3EF15#32
  | 116 => 0xBF000000#32
  | 117 => 0x3F7DCF55#32
  | 118 => 0xBF3504F3#32
  | 119 => 0xBE05A8A8#32
  | 120 => 0x3F5DB3D7#32
  | 121 => 0xBF6C835E#32
  | 122 => 0x3E8483EE#32
  | 123 => 0x3F1BD7CA#32
  | 124 => 0xBF800000#32
  | 125 => 0x3F1BD7CA#32
  | 126 => 0x3E8483EE#32
  | 127 => 0xBF6C835E#32
  | _ => 0#32

noncomputable abbrev lit1t0_230 (i : Nat) : BitVec 32 := match i % 128 with
  | 0 => 0x3F5DB3D7#32
  | 1 => 0xBE05A8A8#32
  | 2 => 0xBF3504F3#32
  | 3 => 0x3F7DCF55#32
  | 4 => 0xBF000000#32
  | 5 => 0xBEC3EF15#32
  | 6 => 0x3F7746EA#32
  | 7 => 0xBF4B1934#32
  | 8 => 0xA50D3132#32
  | 9 => 0x3F4B1934#32
  | 10 => 0xBF7746EA#32
  | 11 => 0x3EC3EF15#32
  | 12 => 0x3F000000#32
  | 13 => 0xBF7DCF55#32
  | 14 => 0x3F3504F3#32
  | 15 => 0x3E05A8A8#32
  | 16 => 0xBF5DB3D7#32
  | 17 => 0x3F6C835E#32
  | 18 => 0xBE8483EE#32
  | 19 => 0xBF1BD7CA#32
  | 20 => 0x3F800000#32
  | 21 => 0xBF1BD7CA#32
  | 22 => 0xBE8483EE#32
  | 23 => 0x3F6C835E#32
  | 24 => 0xBF5DB3D7#32
  | 25 => 0x3E05A8A8#32
  | 26 => 0x3F3504F3#32
  | 27 => 0xBF7DCF55#32
  | 28 => 0x3F000000#32
  | 29 => 0x3EC3EF15#32
  | 30 => 0xBF7746EA#32
  | 31 => 0x3F4B1934#32
  | 32 => 0x80000000#32
  | 33 => 0xBF4B1934#32
  | 34 => 0x3F7746EA#32
  | 35 => 0xBEC3EF15#32
  | 36 => 0xBF000000#32
  | 37 => 0x3F7DCF55#32
  | 38 => 0xBF3504F3#32
  | 39 => 0xBE05A8A8#32
  | 40 => 0x3F5DB3D7#32
  | 41 => 0xBF6C835E#32
  | 42 => 0x3E8483EE#32
  | 43 => 0x3F1BD7CA#32
  | 44 => 0xBF800000#32
  | 45 => 0x3F1BD7CA#32
  | 46 => 0x3E8483EE#32
  | 47 => 0xBF6C835E#32
  | 48 => 0x3F5DB3D7#32
  | 49 => 0xBE05A8A8#32
  | 50 => 0xBF3504F3#32
  | 51 => 0x3F7DCF55#32
  | 52 => 0xBF000000#32
  | 53 => 0xBEC3EF15#32
  | 54 => 0x3F7746EA#32
  | 55 => 0xBF4B1934#32
  | 56 => 0xA50D3132#32
  | 57 => 0x3F4B1934#32
  | 58 => 0xBF7746EA#32
  | 59 => 0x3EC3EF15#32
  | 60 => 0x3F000000#32
  | 61 => 0xBF7DCF55#32
  | 62 => 0x3F3504F3#32
  | 63 => 0x3E05A8A8#32
  | 64 => 0xBF5DB3D7#32
  | 65 => 0x3F6C835E#32
  | 66 => 0xBE8483EE#32
  | 67 => 0xBF1BD7CA#32
  | 68 => 0x3F800000#32
  | 69 => 0xBF1BD7CA#32
  | 70 => 0xBE8483EE#32
  | 71 => 0x3F6C835E#32
  | 72 => 0xBF5DB3D7#32
  | 73 => 0x3E05A8A8#32
  | 74 => 0x3F3504F3#32
  | 75 => 0xBF7DCF55#32
  | 76 => 0x3F000000#32
  | 77 => 0x3EC3EF15#32
  | 78 => 0xBF7746EA#32
  | 79 => 0x3F4B1934#32
  | 80 => 0x80000000#32
  | 81 => 0xBF4B1934#32
  | 82 => 0x3F7746EA#32
  | 83 => 0xBEC3EF15#32
  | 84 => 0xBF000000#32
  | 85 => 0x3F7DCF55#32
  | 86 => 0xBF3504F3#32
  | 87 => 0xBE05A8A8#32
  | 88 => 0x3F5DB3D7#32
  | 89 => 0xBF6C835E#32
  | 90 => 0x3E8483EE#32
  | 91 => 0x3F1BD7CA#32
  | 92 => 0xBF800000#32
  | 93 => 0x3F1BD7CA#32
  | 94 => 0x3E8483EE#32
  | 95 => 0xBF6C835E#32
  | 96 => 0x3F5DB3D7#32
  | 97 => 0xBE05A8A8#32
  | 98 => 0xBF3504F3#32
  | 99 => 0x3F7DCF55#32
  | 100 => 0xBF000000#32
  | 101 => 0xBEC3EF15#32
  | 102 => 0x3F7746EA#32
  | 103 => 0xBF4B1934#32
  | 104 => 0xA50D3132#32
  | 105 => 0x3F4B1934#32
  | 106 => 0xBF7746EA#32
  | 107 => 0x3EC3EF15#32
  | 108 => 0x3F000000#32
  | 109 => 0xBF7DCF55#32
  | 110 => 0x3F3504F3#32
  | 111 => 0x3E05A8A8#32
  | 112 => 0xBF5DB3D7#32
  | 113 => 0x3F6C835E#32
  | 114 => 0xBE8483EE#32
  | 115 => 0xBF1BD7CA#32
  | 116 => 0x3F800000#32
  | 117 => 0xBF1BD7CA#32
  | 118 => 0xBE8483EE#32
  | 119 => 0x3F6C835E#32
  | 120 => 0xBF5DB3D7#32
  | 121 => 0x3E05A8A8#32
  | 122 => 0x3F3504F3#32
  | 123 => 0xBF7DCF55#32
  | 124 => 0x3F000000#32
  | 125 => 0x3EC3EF15#32
  | 126 => 0xBF7746EA#32
  | 127 => 0x3F4B1934#32
  | _ => 0#32

noncomputable abbrev lit1t0_231 (i : Nat) : BitVec 32 := match i % 128 with
  | 0 => 0x80000000#32
  | 1 => 0xBF4B1934#32
  | 2 => 0x3F7746EA#32
  | 3 => 0xBEC3EF15#32
  | 4 => 0xBF000000#32
  | 5 => 0x3F7DCF55#32
  | 6 => 0xBF3504F3#32
  | 7 => 0xBE05A8A8#32
  | 8 => 0x3F5DB3D7#32
  | 9 => 0xBF6C835E#32
  | 10 => 0x3E8483EE#32
  | 11 => 0x3F1BD7CA#32
  | 12 => 0xBF800000#32
  | 13 => 0x3F1BD7CA#32
  | 14 => 0x3E8483EE#32
  | 15 => 0xBF6C835E#32
  | 16 => 0x3F5DB3D7#32
  | 17 => 0xBE05A8A8#32
  | 18 => 0xBF3504F3#32
  | 19 => 0x3F7DCF55#32
  | 20 => 0xBF000000#32
  | 21 => 0xBEC3EF15#32
  | 22 => 0x3F7746EA#32
  | 23 => 0xBF4B1934#32
  | 24 => 0xA50D3132#32
  | 25 => 0x3F4B1934#32
  | 26 => 0xBF7746EA#32
  | 27 => 0x3EC3EF15#32
  | 28 => 0x3F000000#32
  | 29 => 0xBF7DCF55#32
  | 30 => 0x3F3504F3#32
  | 31 => 0x3E05A8A8#32
  | 32 => 0xBF5DB3D7#32
  | 33 => 0x3F6C835E#32
  | 34 => 0xBE8483EE#32
  | 35 => 0xBF1BD7CA#32
  | 36 => 0x3F800000#32
  | 37 => 0xBF1BD7CA#32
  | 38 => 0xBE8483EE#32
  | 39 => 0x3F6C835E#32
  | 40 => 0xBF5DB3D7#32
  | 41 => 0x3E05A8A8#32
  | 42 => 0x3F3504F3#32
  | 43 => 0xBF7DCF55#32
  | 44 => 0x3F000000#32
  | 45 => 0x3EC3EF15#32
  | 46 => 0xBF7746EA#32
  | 47 => 0x3F4B1934#32
  | 48 => 0x80000000#32
  | 49 => 0xBF4B1934#32
  | 50 => 0x3F7746EA#32
  | 51 => 0xBEC3EF15#32
  | 52 => 0xBF000000#32
  | 53 => 0x3F7DCF55#32
  | 54 => 0xBF3504F3#32
  | 55 => 0xBE05A8A8#32
  | 56 => 0x3F5DB3D7#32
  | 57 => 0xBF6C835E#32
  | 58 => 0x3E8483EE#32
  | 59 => 0x3F1BD7CA#32
  | 60 => 0xBF800000#32
  | 61 => 0x3F1BD7CA#32
  | 62 => 0x3E8483EE#32
  | 63 => 0xBF6C835E#32
  | 64 => 0x3F5DB3D7#32
  | 65 => 0xBE05A8A8#32
  | 66 => 0xBF3504F3#32
  | 67 => 0x3F7DCF55#32
  | 68 => 0xBF000000#32
  | 69 => 0xBEC3EF15#32
  | 70 => 0x3F7746EA#32
  | 71 => 0xBF4B1934#32
  | 72 => 0xA50D3132#32
  | 73 => 0x3F4B1934#32
  | 74 => 0xBF7746EA#32
  | 75 => 0x3EC3EF15#32
  | 76 => 0x3F000000#32
  | 77 => 0xBF7DCF55#32
  | 78 => 0x3F3504F3#32
  | 79 => 0x3E05A8A8#32
  | 80 => 0xBF5DB3D7#32
  | 81 => 0x3F6C835E#32
  | 82 => 0xBE8483EE#32
  | 83 => 0xBF1BD7CA#32
  | 84 => 0x3F800000#32
  | 85 => 0xBF1BD7CA#32
  | 86 => 0xBE8483EE#32
  | 87 => 0x3F6C835E#32
  | 88 => 0xBF5DB3D7#32
  | 89 => 0x3E05A8A8#32
  | 90 => 0x3F3504F3#32
  | 91 => 0xBF7DCF55#32
  | 92 => 0x3F000000#32
  | 93 => 0x3EC3EF15#32
  | 94 => 0xBF7746EA#32
  | 95 => 0x3F4B1934#32
  | 96 => 0x80000000#32
  | 97 => 0xBF47A682#32
  | 98 => 0x3F79EE89#32
  | 99 => 0xBEE273AA#32
  | 100 => 0xBED8616C#32
  | 101 => 0x3F78A9E0#32
  | 102 => 0xBF4B1934#32
  | 103 => 0x3CB2B521#32
  | 104 => 0x3F441B7D#32
  | 105 => 0xBF7B14BE#32
  | 106 => 0x3EEC6A50#32
  | 107 => 0x3ECE34D0#32
  | 108 => 0xBF7746EA#32
  | 109 => 0x3F4E7327#32
  | 110 => 0xBD32AA3E#32
  | 111 => 0xBF407893#32
  | 112 => 0x3F7C1C5C#32
  | 113 => 0xBEF64429#32
  | 114 => 0xBEC3EF15#32
  | 115 => 0x3F75C5D4#32
  | 116 => 0xBF51B3F3#32
  | 117 => 0x3D85F213#32
  | 118 => 0x3F3CBE35#32
  | 119 => 0xBF7D0543#32
  | 120 => 0x3F000000#32
  | 121 => 0x3EB9917B#32
  | 122 => 0xBF7426CB#32
  | 123 => 0x3F54DB31#32
  | 124 => 0xBDB27EB6#32
  | 125 => 0xBF38ECD8#32
  | 126 => 0x3F7DCF55#32
  | 127 => 0xBF04CE53#32
  | _ => 0#32

noncomputable abbrev lit1t0_232 (i : Nat) : BitVec 32 := match i % 128 with
  | 0 => 0xBEAF1D44#32
  | 1 => 0x3F726A03#32
  | 2 => 0xBF57E880#32
  | 3 => 0x3DDEF599#32
  | 4 => 0x3F3504F3#32
  | 5 => 0xBF7E7A7A#32
  | 6 => 0x3F098C78#32
  | 7 => 0x3EA493B7#32
  | 8 => 0xBF708FB2#32
  | 9 => 0x3F5ADB81#32
  | 10 => 0xBE05A8A8#32
  | 11 => 0xBF310700#32
  | 12 => 0x3F7F069E#32
  | 13 => 0xBF0E39DA#32
  | 14 => 0xBE99F61C#32
  | 15 => 0x3F6E9811#32
  | 16 => 0xBF5DB3D7#32
  | 17 => 0x3E1BC63C#32
  | 18 => 0x3F2CF37B#32
  | 19 => 0xBF7F73AF#32
  | 20 => 0x3F12D5E8#32
  | 21 => 0x3E8F45C0#32
  | 22 => 0xBF6C835E#32
  | 23 => 0x3F60712A#32
  | 24 => 0xBE31D0D4#32
  | 25 => 0xBF28CAE3#32
  | 26 => 0x3F7FC1A0#32
  | 27 => 0xBF176012#32
  | 28 => 0xBE8483EE#32
  | 29 => 0x3F6A51DA#32
  | 30 => 0xBF631324#32
  | 31 => 0x3E47C5C2#32
  | 32 => 0x3F248DBB#32
  | 33 => 0xBF7FF067#32
  | 34 => 0x3F1BD7CA#32
  | 35 => 0x3E7363EE#32
  | 36 => 0xBF6803CA#32
  | 37 => 0x3F659974#32
  | 38 => 0xBE5DA259#32
  | 39 => 0xBF203C85#32
  | 40 => 0x3F800000#32
  | 41 => 0xBF203C85#32
  | 42 => 0xBE5DA259#32
  | 43 => 0x3F659974#32
  | 44 => 0xBF6803CA#32
  | 45 => 0x3E7363EE#32
  | 46 => 0x3F1BD7CA#32
  | 47 => 0xBF7FF067#32
  | 48 => 0x3F248DBB#32
  | 49 => 0x3E47C5C2#32
  | 50 => 0xBF631324#32
  | 51 => 0x3F6A51DA#32
  | 52 => 0xBE8483EE#32
  | 53 => 0xBF176012#32
  | 54 => 0x3F7FC1A0#32
  | 55 => 0xBF28CAE3#32
  | 56 => 0xBE31D0D4#32
  | 57 => 0x3F60712A#32
  | 58 => 0xBF6C835E#32
  | 59 => 0x3E8F45C0#32
  | 60 => 0x3F12D5E8#32
  | 61 => 0xBF7F73AF#32
  | 62 => 0x3F2CF37B#32
  | 63 => 0x3E1BC63C#32
  | 64 => 0xBF5DB3D7#32
  | 65 => 0x3F6E9811#32
  | 66 => 0xBE99F61C#32
  | 67 => 0xBF0E39DA#32
  | 68 => 0x3F7F069E#32
  | 69 => 0xBF310700#32
  | 70 => 0xBE05A8A8#32
  | 71 => 0x3F5ADB81#32
  | 72 => 0xBF708FB2#32
  | 73 => 0x3EA493B7#32
  | 74 => 0x3F098C78#32
  | 75 => 0xBF7E7A7A#32
  | 76 => 0x3F3504F3#32
  | 77 => 0x3DDEF599#32
  | 78 => 0xBF57E880#32
  | 79 => 0x3F726A03#32
  | 80 => 0xBEAF1D44#32
  | 81 => 0xBF04CE53#32
  | 82 => 0x3F7DCF55#32
  | 83 => 0xBF38ECD8#32
  | 84 => 0xBDB27EB6#32
  | 85 => 0x3F54DB31#32
  | 86 => 0xBF7426CB#32
  | 87 => 0x3EB9917B#32
  | 88 => 0x3F000000#32
  | 89 => 0xBF7D0543#32
  | 90 => 0x3F3CBE35#32
  | 91 => 0x3D85F213#32
  | 92 => 0xBF51B3F3#32
  | 93 => 0x3F75C5D4#32
  | 94 => 0xBEC3EF15#32
  | 95 => 0xBEF64429#32
  | 96 => 0x3F7C1C5C#32
  | 97 => 0xBF407893#32
  | 98 => 0xBD32AA3E#32
  | 99 => 0x3F4E7327#32
  | 100 => 0xBF7746EA#32
  | 101 => 0x3ECE34D0#32
  | 102 => 0x3EEC6A50#32
  | 103 => 0xBF7B14BE#32
  | 104 => 0x3F441B7D#32
  | 105 => 0x3CB2B521#32
  | 106 => 0xBF4B1934#32
  | 107 => 0x3F78A9E0#32
  | 108 => 0xBED8616C#32
  | 109 => 0xBEE273AA#32
  | 110 => 0x3F79EE89#32
  | 111 => 0xBF47A682#32
  | 112 => 0xA50D3132#32
  | 113 => 0x3F47A682#32
  | 114 => 0xBF79EE89#32
  | 115 => 0x3EE273AA#32
  | 116 => 0x3ED8616C#32
  | 117 => 0xBF78A9E0#32
  | 118 => 0x3F4B1934#32
  | 119 => 0xBCB2B521#32
  | 120 => 0xBF441B7D#32
  | 121 => 0x3F7B14BE#32
  | 122 => 0xBEEC6A50#32
  | 123 => 0xBECE34D0#32
  | 124 => 0x3F7746EA#32
  | 125 => 0xBF4E7327#32
  | 126 => 0x3D32AA3E#32
  | 127 => 0x3F407893#32
  | _ => 0#32

noncomputable abbrev lit1t0_233 (i : Nat) : BitVec 32 := match i % 128 with
  | 0 => 0xBF7C1C5C#32
  | 1 => 0x3EF64429#32
  | 2 => 0x3EC3EF15#32
  | 3 => 0xBF75C5D4#32
  | 4 => 0x3F51B3F3#32
  | 5 => 0xBD85F213#32
  | 6 => 0xBF3CBE35#32
  | 7 => 0x3F7D0543#32
  | 8 => 0xBF000000#32
  | 9 => 0xBEB9917B#32
  | 10 => 0x3F7426CB#32
  | 11 => 0xBF54DB31#32
  | 12 => 0x3DB27EB6#32
  | 13 => 0x3F38ECD8#32
  | 14 => 0xBF7DCF55#32
  | 15 => 0x3F04CE53#32
  | 16 => 0x3EAF1D44#32
  | 17 => 0xBF726A03#32
  | 18 => 0x3F57E880#32
  | 19 => 0xBDDEF599#32
  | 20 => 0xBF3504F3#32
  | 21 => 0x3F7E7A7A#32
  | 22 => 0xBF098C78#32
  | 23 => 0xBEA493B7#32
  | 24 => 0x3F708FB2#32
  | 25 => 0xBF5ADB81#32
  | 26 => 0x3E05A8A8#32
  | 27 => 0x3F310700#32
  | 28 => 0xBF7F069E#32
  | 29 => 0x3F0E39DA#32
  | 30 => 0x3E99F61C#32
  | 31 => 0xBF6E9811#32
  | 32 => 0x3F5DB3D7#32
  | 33 => 0xBE1BC63C#32
  | 34 => 0xBF2CF37B#32
  | 35 => 0x3F7F73AF#32
  | 36 => 0xBF12D5E8#32
  | 37 => 0xBE8F45C0#32
  | 38 => 0x3F6C835E#32
  | 39 => 0xBF60712A#32
  | 40 => 0x3E31D0D4#32
  | 41 => 0x3F28CAE3#32
  | 42 => 0xBF7FC1A0#32
  | 43 => 0x3F176012#32
  | 44 => 0x3E8483EE#32
  | 45 => 0xBF6A51DA#32
  | 46 => 0x3F631324#32
  | 47 => 0xBE47C5C2#32
  | 48 => 0xBF248DBB#32
  | 49 => 0x3F7FF067#32
  | 50 => 0xBF1BD7CA#32
  | 51 => 0xBE7363EE#32
  | 52 => 0x3F6803CA#32
  | 53 => 0xBF659974#32
  | 54 => 0x3E5DA259#32
  | 55 => 0x3F203C85#32
  | 56 => 0xBF800000#32
  | 57 => 0x3F203C85#32
  | 58 => 0x3E5DA259#32
  | 59 => 0xBF659974#32
  | 60 => 0x3F6803CA#32
  | 61 => 0xBE7363EE#32
  | 62 => 0xBF1BD7CA#32
  | 63 => 0x3F7FF067#32
  | 64 => 0xBF248DBB#32
  | 65 => 0xBE47C5C2#32
  | 66 => 0x3F631324#32
  | 67 => 0xBF6A51DA#32
  | 68 => 0x3E8483EE#32
  | 69 => 0x3F176012#32
  | 70 => 0xBF7FC1A0#32
  | 71 => 0x3F28CAE3#32
  | 72 => 0x3E31D0D4#32
  | 73 => 0xBF60712A#32
  | 74 => 0x3F6C835E#32
  | 75 => 0xBE8F45C0#32
  | 76 => 0xBF12D5E8#32
  | 77 => 0x3F7F73AF#32
  | 78 => 0xBF2CF37B#32
  | 79 => 0xBE1BC63C#32
  | 80 => 0x3F5DB3D7#32
  | 81 => 0xBF6E9811#32
  | 82 => 0x3E99F61C#32
  | 83 => 0x3F0E39DA#32
  | 84 => 0xBF7F069E#32
  | 85 => 0x3F310700#32
  | 86 => 0x3E05A8A8#32
  | 87 => 0xBF5ADB81#32
  | 88 => 0x3F708FB2#32
  | 89 => 0xBEA493B7#32
  | 90 => 0xBF098C78#32
  | 91 => 0x3F7E7A7A#32
  | 92 => 0xBF3504F3#32
  | 93 => 0xBDDEF599#32
  | 94 => 0x3F57E880#32
  | 95 => 0xBF726A03#32
  | 96 => 0x3EAF1D44#32
  | 97 => 0x3F04CE53#32
  | 98 => 0xBF7DCF55#32
  | 99 => 0x3F38ECD8#32
  | 100 => 0x3DB27EB6#32
  | 101 => 0xBF54DB31#32
  | 102 => 0x3F7426CB#32
  | 103 => 0xBEB9917B#32
  | 104 => 0xBF000000#32
  | 105 => 0x3F7D0543#32
  | 106 => 0xBF3CBE35#32
  | 107 => 0xBD85F213#32
  | 108 => 0x3F51B3F3#32
  | 109 => 0xBF75C5D4#32
  | 110 => 0x3EC3EF15#32
  | 111 => 0x3EF64429#32
  | 112 => 0xBF7C1C5C#32
  | 113 => 0x3F407893#32
  | 114 => 0x3D32AA3E#32
  | 115 => 0xBF4E7327#32
  | 116 => 0x3F7746EA#32
  | 117 => 0xBECE34D0#32
  | 118 => 0xBEEC6A50#32
  | 119 => 0x3F7B14BE#32
  | 120 => 0xBF441B7D#32
  | 121 => 0xBCB2B521#32
  | 122 => 0x3F4B1934#32
  | 123 => 0xBF78A9E0#32
  | 124 => 0x3ED8616C#32
  | 125 => 0x3EE273AA#32
  | 126 => 0xBF79EE89#32
  | 127 => 0x3F47A682#32
  | _ => 0#32

noncomputable abbrev lit1t0_234 (i : Nat) : BitVec 32 := match i % 128 with
  | 0 => 0x80000000#32
  | 1 => 0xBF441B7D#32
  | 2 => 0x3F7C1C5C#32
  | 3 => 0xBF000000#32
  | 4 => 0xBEAF1D44#32
  | 5 => 0x3F708FB2#32
  | 6 => 0xBF5DB3D7#32
  | 7 => 0x3E31D0D4#32
  | 8 => 0x3F248DBB#32
  | 9 => 0xBF800000#32
  | 10 => 0x3F248DBB#32
  | 11 => 0x3E31D0D4#32
  | 12 => 0xBF5DB3D7#32
  | 13 => 0x3F708FB2#32
  | 14 => 0xBEAF1D44#32
  | 15 => 0xBF000000#32
  | 16 => 0x3F7C1C5C#32
  | 17 => 0xBF441B7D#32
  | 18 => 0xA50D3132#32
  | 19 => 0x3F441B7D#32
  | 20 => 0xBF7C1C5C#32
  | 21 => 0x3F000000#32
  | 22 => 0x3EAF1D44#32
  | 23 => 0xBF708FB2#32
  | 24 => 0x3F5DB3D7#32
  | 25 => 0xBE31D0D4#32
  | 26 => 0xBF248DBB#32
  | 27 => 0x3F800000#32
  | 28 => 0xBF248DBB#32
  | 29 => 0xBE31D0D4#32
  | 30 => 0x3F5DB3D7#32
  | 31 => 0xBF708FB2#32
  | 32 => 0x3EAF1D44#32
  | 33 => 0x3F000000#32
  | 34 => 0xBF7C1C5C#32
  | 35 => 0x3F441B7D#32
  | 36 => 0x80000000#32
  | 37 => 0xBF441B7D#32
  | 38 => 0x3F7C1C5C#32
  | 39 => 0xBF000000#32
  | 40 => 0xBEAF1D44#32
  | 41 => 0x3F708FB2#32
  | 42 => 0xBF5DB3D7#32
  | 43 => 0x3E31D0D4#32
  | 44 => 0x3F248DBB#32
  | 45 => 0xBF800000#32
  | 46 => 0x3F248DBB#32
  | 47 => 0x3E31D0D4#32
  | 48 => 0xBF5DB3D7#32
  | 49 => 0x3F708FB2#32
  | 50 => 0xBEAF1D44#32
  | 51 => 0xBF000000#32
  | 52 => 0x3F7C1C5C#32
  | 53 => 0xBF441B7D#32
  | 54 => 0xA50D3132#32
  | 55 => 0x3F441B7D#32
  | 56 => 0xBF7C1C5C#32
  | 57 => 0x3F000000#32
  | 58 => 0x3EAF1D44#32
  | 59 => 0xBF708FB2#32
  | 60 => 0x3F5DB3D7#32
  | 61 => 0xBE31D0D4#32
  | 62 => 0xBF248DBB#32
  | 63 => 0x3F800000#32
  | 64 => 0xBF248DBB#32
  | 65 => 0xBE31D0D4#32
  | 66 => 0x3F5DB3D7#32
  | 67 => 0xBF708FB2#32
  | 68 => 0x3EAF1D44#32
  | 69 => 0x3F000000#32
  | 70 => 0xBF7C1C5C#32
  | 71 => 0x3F441B7D#32
  | 72 => 0x80000000#32
  | 73 => 0xBF441B7D#32
  | 74 => 0x3F7C1C5C#32
  | 75 => 0xBF000000#32
  | 76 => 0xBEAF1D44#32
  | 77 => 0x3F708FB2#32
  | 78 => 0xBF5DB3D7#32
  | 79 => 0x3E31D0D4#32
  | 80 => 0x3F248DBB#32
  | 81 => 0xBF800000#32
  | 82 => 0x3F248DBB#32
  | 83 => 0x3E31D0D4#32
  | 84 => 0xBF5DB3D7#32
  | 85 => 0x3F708FB2#32
  | 86 => 0xBEAF1D44#32
  | 87 => 0xBF000000#32
  | 88 => 0x3F7C1C5C#32
  | 89 => 0xBF441B7D#32
  | 90 => 0xA50D3132#32
  | 91 => 0x3F441B7D#32
  | 92 => 0xBF7C1C5C#32
  | 93 => 0x3F000000#32
  | 94 => 0x3EAF1D44#32
  | 95 => 0xBF708FB2#32
  | 96 => 0x3F5DB3D7#32
  | 97 => 0xBE31D0D4#32
  | 98 => 0xBF248DBB#32
  | 99 => 0x3F800000#32
  | 100 => 0xBF248DBB#32
  | 101 => 0xBE31D0D4#32
  | 102 => 0x3F5DB3D7#32
  | 103 => 0xBF708FB2#32
  | 104 => 0x3EAF1D44#32
  | 105 => 0x3F000000#32
  | 106 => 0xBF7C1C5C#32
  | 107 => 0x3F441B7D#32
  | 108 => 0x80000000#32
  | 109 => 0xBF441B7D#32
  | 110 => 0x3F7C1C5C#32
  | 111 => 0xBF000000#32
  | 112 => 0xBEAF1D44#32
  | 113 => 0x3F708FB2#32
  | 114 => 0xBF5DB3D7#32
  | 115 => 0x3E31D0D4#32
  | 116 => 0x3F248DBB#32
  | 117 => 0xBF800000#32
  | 118 => 0x3F248DBB#32
  | 119 => 0x3E31D0D4#32
  | 120 => 0xBF5DB3D7#32
  | 121 => 0x3F708FB2#32
  | 122 => 0xBEAF1D44#32
  | 123 => 0xBF000000#32
  | 124 => 0x3F7C1C5C#32
  | 125 => 0xBF441B7D#32
  | 126 => 0xA50D3132#32
  | 127 => 0x3F441B7D#32
  | _ => 0#32

noncomputable abbrev lit1t0_235 (i : Nat) : BitVec 32 := match i % 128 with
  | 0 => 0xBF7C1C5C#32
  | 1 => 0x3F000000#32
  | 2 => 0x3EAF1D44#32
  | 3 => 0xBF708FB2#32
  | 4 => 0x3F5DB3D7#32
  | 5 => 0xBE31D0D4#32
  | 6 => 0xBF248DBB#32
  | 7 => 0x3F800000#32
  | 8 => 0xBF248DBB#32
  | 9 => 0xBE31D0D4#32
  | 10 => 0x3F5DB3D7#32
  | 11 => 0xBF708FB2#32
  | 12 => 0x3EAF1D44#32
  | 13 => 0x3F000000#32
  | 14 => 0xBF7C1C5C#32
  | 15 => 0x3F441B7D#32
  | 16 => 0x80000000#32
  | 17 => 0xBF441B7D#32
  | 18 => 0x3F7C1C5C#32
  | 19 => 0xBF000000#32
  | 20 => 0xBEAF1D44#32
  | 21 => 0x3F708FB2#32
  | 22 => 0xBF5DB3D7#32
  | 23 => 0x3E31D0D4#32
  | 24 => 0x3F248DBB#32
  | 25 => 0xBF800000#32
  | 26 => 0x3F248DBB#32
  | 27 => 0x3E31D0D4#32
  | 28 => 0xBF5DB3D7#32
  | 29 => 0x3F708FB2#32
  | 30 => 0xBEAF1D44#32
  | 31 => 0xBF000000#32
  | 32 => 0x3F7C1C5C#32
  | 33 => 0xBF441B7D#32
  | 34 => 0xA50D3132#32
  | 35 => 0x3F441B7D#32
  | 36 => 0xBF7C1C5C#32
  | 37 => 0x3F000000#32
  | 38 => 0x3EAF1D44#32
  | 39 => 0xBF708FB2#32
  | 40 => 0x3F5DB3D7#32
  | 41 => 0xBE31D0D4#32
  | 42 => 0xBF248DBB#32
  | 43 => 0x3F800000#32
  | 44 => 0xBF248DBB#32
  | 45 => 0xBE31D0D4#32
  | 46 => 0x3F5DB3D7#32
  | 47 => 0xBF708FB2#32
  | 48 => 0x3EAF1D44#32
  | 49 => 0x3F000000#32
  | 50 => 0xBF7C1C5C#32
  | 51 => 0x3F441B7D#32
  | 52 => 0x80000000#32
  | 53 => 0xBF441B7D#32
  | 54 => 0x3F7C1C5C#32
  | 55 => 0xBF000000#32
  | 56 => 0xBEAF1D44#32
  | 57 => 0x3F708FB2#32
  | 58 => 0xBF5DB3D7#32
  | 59 => 0x3E31D0D4#32
  | 60 => 0x3F248DBB#32
  | 61 => 0xBF800000#32
  | 62 => 0x3F248DBB#32
  | 63 => 0x3E31D0D4#32
  | 64 => 0xBF5DB3D7#32
  | 65 => 0x3F708FB2#32
  | 66 => 0xBEAF1D44#32
  | 67 => 0xBF000000#32
  | 68 => 0x3F7C1C5C#32
  | 69 => 0xBF441B7D#32
  | 70 => 0xA50D3132#32
  | 71 => 0x3F441B7D#32
  | 72 => 0xBF7C1C5C#32
  | 73 => 0x3F000000#32
  | 74 => 0x3EAF1D44#32
  | 75 => 0xBF708FB2#32
  | 76 => 0x3F5DB3D7#32
  | 77 => 0xBE31D0D4#32
  | 78 => 0xBF248DBB#32
  | 79 => 0x3F800000#32
  | 80 => 0xBF248DBB#32
  | 81 => 0xBE31D0D4#32
  | 82 => 0x3F5DB3D7#32
  | 83 => 0xBF708FB2#32
  | 84 => 0x3EAF1D44#32
  | 85 => 0x3F000000#32
  | 86 => 0xBF7C1C5C#32
  | 87 => 0x3F441B7D#32
  | 88 => 0x80000000#32
  | 89 => 0xBF441B7D#32
  | 90 => 0x3F7C1C5C#32
  | 91 => 0xBF000000#32
  | 92 => 0xBEAF1D44#32
  | 93 => 0x3F708FB2#32
  | 94 => 0xBF5DB3D7#32
  | 95 => 0x3E31D0D4#32
  | 96 => 0x3F248DBB#32
  | 97 => 0xBF800000#32
  | 98 => 0x3F248DBB#32
  | 99 => 0x3E31D0D4#32
  | 100 => 0xBF5DB3D7#32
  | 101 => 0x3F708FB2#32
  | 102 => 0xBEAF1D44#32
  | 103 => 0xBF000000#32
  | 104 => 0x3F7C1C5C#32
  | 105 => 0xBF441B7D#32
  | 106 => 0xA50D3132#32
  | 107 => 0x3F441B7D#32
  | 108 => 0xBF7C1C5C#32
  | 109 => 0x3F000000#32
  | 110 => 0x3EAF1D44#32
  | 111 => 0xBF708FB2#32
  | 112 => 0x3F5DB3D7#32
  | 113 => 0xBE31D0D4#32
  | 114 => 0xBF248DBB#32
  | 115 => 0x3F800000#32
  | 116 => 0xBF248DBB#32
  | 117 => 0xBE31D0D4#32
  | 118 => 0x3F5DB3D7#32
  | 119 => 0xBF708FB2#32
  | 120 => 0x3EAF1D44#32
  | 121 => 0x3F000000#32
  | 122 => 0xBF7C1C5C#32
  | 123 => 0x3F441B7D#32
  | 124 => 0x80000000#32
  | 125 => 0xBF441B7D#32
  | 126 => 0x3F7C1C5C#32
  | 127 => 0xBF000000#32
  | _ => 0#32

noncomputable abbrev lit1t0_236 (i : Nat) : BitVec 32 := match i % 128 with
  | 0 => 0xBEAF1D44#32
  | 1 => 0x3F708FB2#32
  | 2 => 0xBF5DB3D7#32
  | 3 => 0x3E31D0D4#32
  | 4 => 0x3F248DBB#32
  | 5 => 0xBF800000#32
  | 6 => 0x3F248DBB#32
  | 7 => 0x3E31D0D4#32
  | 8 => 0xBF5DB3D7#32
  | 9 => 0x3F708FB2#32
  | 10 => 0xBEAF1D44#32
  | 11 => 0xBF000000#32
  | 12 => 0x3F7C1C5C#32
  | 13 => 0xBF441B7D#32
  | 14 => 0xA50D3132#32
  | 15 => 0x3F441B7D#32
  | 16 => 0xBF7C1C5C#32
  | 17 => 0x3F000000#32
  | 18 => 0x3EAF1D44#32
  | 19 => 0xBF708FB2#32
  | 20 => 0x3F5DB3D7#32
  | 21 => 0xBE31D0D4#32
  | 22 => 0xBF248DBB#32
  | 23 => 0x3F800000#32
  | 24 => 0xBF248DBB#32
  | 25 => 0xBE31D0D4#32
  | 26 => 0x3F5DB3D7#32
  | 27 => 0xBF708FB2#32
  | 28 => 0x3EAF1D44#32
  | 29 => 0x3F000000#32
  | 30 => 0xBF7C1C5C#32
  | 31 => 0x3F441B7D#32
  | 32 => 0x80000000#32
  | 33 => 0xBF407893#32
  | 34 => 0x3F7DCF55#32
  | 35 => 0xBF0E39DA#32
  | 36 => 0xBE8483EE#32
  | 37 => 0x3F659974#32
  | 38 => 0xBF6C835E#32
  | 39 => 0x3EA493B7#32
  | 40 => 0x3F000000#32
  | 41 => 0xBF7B14BE#32
  | 42 => 0x3F4B1934#32
  | 43 => 0xBD85F213#32
  | 44 => 0xBF3504F3#32
  | 45 => 0x3F7F73AF#32
  | 46 => 0xBF1BD7CA#32
  | 47 => 0xBE47C5C2#32
  | 48 => 0x3F5DB3D7#32
  | 49 => 0xBF726A03#32
  | 50 => 0x3EC3EF15#32
  | 51 => 0x3EE273AA#32
  | 52 => 0xBF7746EA#32
  | 53 => 0x3F54DB31#32
  | 54 => 0xBE05A8A8#32
  | 55 => 0xBF28CAE3#32
  | 56 => 0x3F800000#32
  | 57 => 0xBF28CAE3#32
  | 58 => 0xBE05A8A8#32
  | 59 => 0x3F54DB31#32
  | 60 => 0xBF7746EA#32
  | 61 => 0x3EE273AA#32
  | 62 => 0x3EC3EF15#32
  | 63 => 0xBF726A03#32
  | 64 => 0x3F5DB3D7#32
  | 65 => 0xBE47C5C2#32
  | 66 => 0xBF1BD7CA#32
  | 67 => 0x3F7F73AF#32
  | 68 => 0xBF3504F3#32
  | 69 => 0xBD85F213#32
  | 70 => 0x3F4B1934#32
  | 71 => 0xBF7B14BE#32
  | 72 => 0x3F000000#32
  | 73 => 0x3EA493B7#32
  | 74 => 0xBF6C835E#32
  | 75 => 0x3F659974#32
  | 76 => 0xBE8483EE#32
  | 77 => 0xBF0E39DA#32
  | 78 => 0x3F7DCF55#32
  | 79 => 0xBF407893#32
  | 80 => 0xA50D3132#32
  | 81 => 0x3F407893#32
  | 82 => 0xBF7DCF55#32
  | 83 => 0x3F0E39DA#32
  | 84 => 0x3E8483EE#32
  | 85 => 0xBF659974#32
  | 86 => 0x3F6C835E#32
  | 87 => 0xBEA493B7#32
  | 88 => 0xBF000000#32
  | 89 => 0x3F7B14BE#32
  | 90 => 0xBF4B1934#32
  | 91 => 0x3D85F213#32
  | 92 => 0x3F3504F3#32
  | 93 => 0xBF7F73AF#32
  | 94 => 0x3F1BD7CA#32
  | 95 => 0x3E47C5C2#32
  | 96 => 0xBF5DB3D7#32
  | 97 => 0x3F726A03#32
  | 98 => 0xBEC3EF15#32
  | 99 => 0xBEE273AA#32
  | 100 => 0x3F7746EA#32
  | 101 => 0xBF54DB31#32
  | 102 => 0x3E05A8A8#32
  | 103 => 0x3F28CAE3#32
  | 104 => 0xBF800000#32
  | 105 => 0x3F28CAE3#32
  | 106 => 0x3E05A8A8#32
  | 107 => 0xBF54DB31#32
  | 108 => 0x3F7746EA#32
  | 109 => 0xBEE273AA#32
  | 110 => 0xBEC3EF15#32
  | 111 => 0x3F726A03#32
  | 112 => 0xBF5DB3D7#32
  | 113 => 0x3E47C5C2#32
  | 114 => 0x3F1BD7CA#32
  | 115 => 0xBF7F73AF#32
  | 116 => 0x3F3504F3#32
  | 117 => 0x3D85F213#32
  | 118 => 0xBF4B1934#32
  | 119 => 0x3F7B14BE#32
  | 120 => 0xBF000000#32
  | 121 => 0xBEA493B7#32
  | 122 => 0x3F6C835E#32
  | 123 => 0xBF659974#32
  | 124 => 0x3E8483EE#32
  | 125 => 0x3F0E39DA#32
  | 126 => 0xBF7DCF55#32
  | 127 => 0x3F407893#32
  | _ => 0#32

noncomputable abbrev lit1t0_237 (i : Nat) : BitVec 32 := match i % 128 with
  | 0 => 0x80000000#32
  | 1 => 0xBF407893#32
  | 2 => 0x3F7DCF55#32
  | 3 => 0xBF0E39DA#32
  | 4 => 0xBE8483EE#32
  | 5 => 0x3F659974#32
  | 6 => 0xBF6C835E#32
  | 7 => 0x3EA493B7#32
  | 8 => 0x3F000000#32
  | 9 => 0xBF7B14BE#32
  | 10 => 0x3F4B1934#32
  | 11 => 0xBD85F213#32
  | 12 => 0xBF3504F3#32
  | 13 => 0x3F7F73AF#32
  | 14 => 0xBF1BD7CA#32
  | 15 => 0xBE47C5C2#32
  | 16 => 0x3F5DB3D7#32
  | 17 => 0xBF726A03#32
  | 18 => 0x3EC3EF15#32
  | 19 => 0x3EE273AA#32
  | 20 => 0xBF7746EA#32
  | 21 => 0x3F54DB31#32
  | 22 => 0xBE05A8A8#32
  | 23 => 0xBF28CAE3#32
  | 24 => 0x3F800000#32
  | 25 => 0xBF28CAE3#32
  | 26 => 0xBE05A8A8#32
  | 27 => 0x3F54DB31#32
  | 28 => 0xBF7746EA#32
  | 29 => 0x3EE273AA#32
  | 30 => 0x3EC3EF15#32
  | 31 => 0xBF726A03#32
  | 32 => 0x3F5DB3D7#32
  | 33 => 0xBE47C5C2#32
  | 34 => 0xBF1BD7CA#32
  | 35 => 0x3F7F73AF#32
  | 36 => 0xBF3504F3#32
  | 37 => 0xBD85F213#32
  | 38 => 0x3F4B1934#32
  | 39 => 0xBF7B14BE#32
  | 40 => 0x3F000000#32
  | 41 => 0x3EA493B7#32
  | 42 => 0xBF6C835E#32
  | 43 => 0x3F659974#32
  | 44 => 0xBE8483EE#32
  | 45 => 0xBF0E39DA#32
  | 46 => 0x3F7DCF55#32
  | 47 => 0xBF407893#32
  | 48 => 0xA50D3132#32
  | 49 => 0x3F407893#32
  | 50 => 0xBF7DCF55#32
  | 51 => 0x3F0E39DA#32
  | 52 => 0x3E8483EE#32
  | 53 => 0xBF659974#32
  | 54 => 0x3F6C835E#32
  | 55 => 0xBEA493B7#32
  | 56 => 0xBF000000#32
  | 57 => 0x3F7B14BE#32
  | 58 => 0xBF4B1934#32
  | 59 => 0x3D85F213#32
  | 60 => 0x3F3504F3#32
  | 61 => 0xBF7F73AF#32
  | 62 => 0x3F1BD7CA#32
  | 63 => 0x3E47C5C2#32
  | 64 => 0xBF5DB3D7#32
  | 65 => 0x3F726A03#32
  | 66 => 0xBEC3EF15#32
  | 67 => 0xBEE273AA#32
  | 68 => 0x3F7746EA#32
  | 69 => 0xBF54DB31#32
  | 70 => 0x3E05A8A8#32
  | 71 => 0x3F28CAE3#32
  | 72 => 0xBF800000#32
  | 73 => 0x3F28CAE3#32
  | 74 => 0x3E05A8A8#32
  | 75 => 0xBF54DB31#32
  | 76 => 0x3F7746EA#32
  | 77 => 0xBEE273AA#32
  | 78 => 0xBEC3EF15#32
  | 79 => 0x3F726A03#32
  | 80 => 0xBF5DB3D7#32
  | 81 => 0x3E47C5C2#32
  | 82 => 0x3F1BD7CA#32
  | 83 => 0xBF7F73AF#32
  | 84 => 0x3F3504F3#32
  | 85 => 0x3D85F213#32
  | 86 => 0xBF4B1934#32
  | 87 => 0x3F7B14BE#32
  | 88 => 0xBF000000#32
  | 89 => 0xBEA493B7#32
  | 90 => 0x3F6C835E#32
  | 91 => 0xBF659974#32
  | 92 => 0x3E8483EE#32
  | 93 => 0x3F0E39DA#32
  | 94 => 0xBF7DCF55#32
  | 95 => 0x3F407893#32
  | 96 => 0x80000000#32
  | 97 => 0xBF407893#32
  | 98 => 0x3F7DCF55#32
  | 99 => 0xBF0E39DA#32
  | 100 => 0xBE8483EE#32
  | 101 => 0x3F659974#32
  | 102 => 0xBF6C835E#32
  | 103 => 0x3EA493B7#32
  | 104 => 0x3F000000#32
  | 105 => 0xBF7B14BE#32
  | 106 => 0x3F4B1934#32
  | 107 => 0xBD85F213#32
  | 108 => 0xBF3504F3#32
  | 109 => 0x3F7F73AF#32
  | 110 => 0xBF1BD7CA#32
  | 111 => 0xBE47C5C2#32
  | 112 => 0x3F5DB3D7#32
  | 113 => 0xBF726A03#32
  | 114 => 0x3EC3EF15#32
  | 115 => 0x3EE273AA#32
  | 116 => 0xBF7746EA#32
  | 117 => 0x3F54DB31#32
  | 118 => 0xBE05A8A8#32
  | 119 => 0xBF28CAE3#32
  | 120 => 0x3F800000#32
  | 121 => 0xBF28CAE3#32
  | 122 => 0xBE05A8A8#32
  | 123 => 0x3F54DB31#32
  | 124 => 0xBF7746EA#32
  | 125 => 0x3EE273AA#32
  | 126 => 0x3EC3EF15#32
  | 127 => 0xBF726A03#32
  | _ => 0#32

noncomputable abbrev lit1t0_238 (i : Nat) : BitVec 32 := match i % 128 with
  | 0 => 0x3F5DB3D7#32
  | 1 => 0xBE47C5C2#32
  | 2 => 0xBF1BD7CA#32
  | 3 => 0x3F7F73AF#32
  | 4 => 0xBF3504F3#32
  | 5 => 0xBD85F213#32
  | 6 => 0x3F4B1934#32
  | 7 => 0xBF7B14BE#32
  | 8 => 0x3F000000#32
  | 9 => 0x3EA493B7#32
  | 10 => 0xBF6C835E#32
  | 11 => 0x3F659974#32
  | 12 => 0xBE8483EE#32
  | 13 => 0xBF0E39DA#32
  | 14 => 0x3F7DCF55#32
  | 15 => 0xBF407893#32
  | 16 => 0xA50D3132#32
  | 17 => 0x3F407893#32
  | 18 => 0xBF7DCF55#32
  | 19 => 0x3F0E39DA#32
  | 20 => 0x3E8483EE#32
  | 21 => 0xBF659974#32
  | 22 => 0x3F6C835E#32
  | 23 => 0xBEA493B7#32
  | 24 => 0xBF000000#32
  | 25 => 0x3F7B14BE#32
  | 26 => 0xBF4B1934#32
  | 27 => 0x3D85F213#32
  | 28 => 0x3F3504F3#32
  | 29 => 0xBF7F73AF#32
  | 30 => 0x3F1BD7CA#32
  | 31 => 0x3E47C5C2#32
  | 32 => 0xBF5DB3D7#32
  | 33 => 0x3F726A03#32
  | 34 => 0xBEC3EF15#32
  | 35 => 0xBEE273AA#32
  | 36 => 0x3F7746EA#32
  | 37 => 0xBF54DB31#32
  | 38 => 0x3E05A8A8#32
  | 39 => 0x3F28CAE3#32
  | 40 => 0xBF800000#32
  | 41 => 0x3F28CAE3#32
  | 42 => 0x3E05A8A8#32
  | 43 => 0xBF54DB31#32
  | 44 => 0x3F7746EA#32
  | 45 => 0xBEE273AA#32
  | 46 => 0xBEC3EF15#32
  | 47 => 0x3F726A03#32
  | 48 => 0xBF5DB3D7#32
  | 49 => 0x3E47C5C2#32
  | 50 => 0x3F1BD7CA#32
  | 51 => 0xBF7F73AF#32
  | 52 => 0x3F3504F3#32
  | 53 => 0x3D85F213#32
  | 54 => 0xBF4B1934#32
  | 55 => 0x3F7B14BE#32
  | 56 => 0xBF000000#32
  | 57 => 0xBEA493B7#32
  | 58 => 0x3F6C835E#32
  | 59 => 0xBF659974#32
  | 60 => 0x3E8483EE#32
  | 61 => 0x3F0E39DA#32
  | 62 => 0xBF7DCF55#32
  | 63 => 0x3F407893#32
  | 64 => 0x80000000#32
  | 65 => 0xBF3CBE35#32
  | 66 => 0x3F7F069E#32
  | 67 => 0xBF1BD7CA#32
  | 68 => 0xBE31D0D4#32
  | 69 => 0x3F57E880#32
  | 70 => 0xBF7746EA#32
  | 71 => 0x3EEC6A50#32
  | 72 => 0x3EAF1D44#32
  | 73 => 0xBF6C835E#32
  | 74 => 0x3F6803CA#32
  | 75 => 0xBE99F61C#32
  | 76 => 0xBF000000#32
  | 77 => 0x3F79EE89#32
  | 78 => 0xBF51B3F3#32
  | 79 => 0x3E05A8A8#32
  | 80 => 0x3F248DBB#32
  | 81 => 0xBF7FC1A0#32
  | 82 => 0x3F3504F3#32
  | 83 => 0x3D32AA3E#32
  | 84 => 0xBF441B7D#32
  | 85 => 0x3F7DCF55#32
  | 86 => 0xBF12D5E8#32
  | 87 => 0xBE5DA259#32
  | 88 => 0x3F5DB3D7#32
  | 89 => 0xBF7426CB#32
  | 90 => 0x3ED8616C#32
  | 91 => 0x3EC3EF15#32
  | 92 => 0xBF708FB2#32
  | 93 => 0x3F631324#32
  | 94 => 0xBE8483EE#32
  | 95 => 0xBF098C78#32
  | 96 => 0x3F7C1C5C#32
  | 97 => 0xBF4B1934#32
  | 98 => 0x3DB27EB6#32
  | 99 => 0x3F2CF37B#32
  | 100 => 0xBF800000#32
  | 101 => 0x3F2CF37B#32
  | 102 => 0x3DB27EB6#32
  | 103 => 0xBF4B1934#32
  | 104 => 0x3F7C1C5C#32
  | 105 => 0xBF098C78#32
  | 106 => 0xBE8483EE#32
  | 107 => 0x3F631324#32
  | 108 => 0xBF708FB2#32
  | 109 => 0x3EC3EF15#32
  | 110 => 0x3ED8616C#32
  | 111 => 0xBF7426CB#32
  | 112 => 0x3F5DB3D7#32
  | 113 => 0xBE5DA259#32
  | 114 => 0xBF12D5E8#32
  | 115 => 0x3F7DCF55#32
  | 116 => 0xBF441B7D#32
  | 117 => 0x3D32AA3E#32
  | 118 => 0x3F3504F3#32
  | 119 => 0xBF7FC1A0#32
  | 120 => 0x3F248DBB#32
  | 121 => 0x3E05A8A8#32
  | 122 => 0xBF51B3F3#32
  | 123 => 0x3F79EE89#32
  | 124 => 0xBF000000#32
  | 125 => 0xBE99F61C#32
  | 126 => 0x3F6803CA#32
  | 127 => 0xBF6C835E#32
  | _ => 0#32

noncomputable abbrev lit1t0_239 (i : Nat) : BitVec 32 := match i % 128 with
  | 0 => 0x3EAF1D44#32
  | 1 => 0x3EEC6A50#32
  | 2 => 0xBF7746EA#32
  | 3 => 0x3F57E880#32
  | 4 => 0xBE31D0D4#32
  | 5 => 0xBF1BD7CA#32
  | 6 => 0x3F7F069E#32
  | 7 => 0xBF3CBE35#32
  | 8 => 0xA50D3132#32
  | 9 => 0x3F3CBE35#32
  | 10 => 0xBF7F069E#32
  | 11 => 0x3F1BD7CA#32
  | 12 => 0x3E31D0D4#32
  | 13 => 0xBF57E880#32
  | 14 => 0x3F7746EA#32
  | 15 => 0xBEEC6A50#32
  | 16 => 0xBEAF1D44#32
  | 17 => 0x3F6C835E#32
  | 18 => 0xBF6803CA#32
  | 19 => 0x3E99F61C#32
  | 20 => 0x3F000000#32
  | 21 => 0xBF79EE89#32
  | 22 => 0x3F51B3F3#32
  | 23 => 0xBE05A8A8#32
  | 24 => 0xBF248DBB#32
  | 25 => 0x3F7FC1A0#32
  | 26 => 0xBF3504F3#32
  | 27 => 0xBD32AA3E#32
  | 28 => 0x3F441B7D#32
  | 29 => 0xBF7DCF55#32
  | 30 => 0x3F12D5E8#32
  | 31 => 0x3E5DA259#32
  | 32 => 0xBF5DB3D7#32
  | 33 => 0x3F7426CB#32
  | 34 => 0xBED8616C#32
  | 35 => 0xBEC3EF15#32
  | 36 => 0x3F708FB2#32
  | 37 => 0xBF631324#32
  | 38 => 0x3E8483EE#32
  | 39 => 0x3F098C78#32
  | 40 => 0xBF7C1C5C#32
  | 41 => 0x3F4B1934#32
  | 42 => 0xBDB27EB6#32
  | 43 => 0xBF2CF37B#32
  | 44 => 0x3F800000#32
  | 45 => 0xBF2CF37B#32
  | 46 => 0xBDB27EB6#32
  | 47 => 0x3F4B1934#32
  | 48 => 0xBF7C1C5C#32
  | 49 => 0x3F098C78#32
  | 50 => 0x3E8483EE#32
  | 51 => 0xBF631324#32
  | 52 => 0x3F708FB2#32
  | 53 => 0xBEC3EF15#32
  | 54 => 0xBED8616C#32
  | 55 => 0x3F7426CB#32
  | 56 => 0xBF5DB3D7#32
  | 57 => 0x3E5DA259#32
  | 58 => 0x3F12D5E8#32
  | 59 => 0xBF7DCF55#32
  | 60 => 0x3F441B7D#32
  | 61 => 0xBD32AA3E#32
  | 62 => 0xBF3504F3#32
  | 63 => 0x3F7FC1A0#32
  | 64 => 0xBF248DBB#32
  | 65 => 0xBE05A8A8#32
  | 66 => 0x3F51B3F3#32
  | 67 => 0xBF79EE89#32
  | 68 => 0x3F000000#32
  | 69 => 0x3E99F61C#32
  | 70 => 0xBF6803CA#32
  | 71 => 0x3F6C835E#32
  | 72 => 0xBEAF1D44#32
  | 73 => 0xBEEC6A50#32
  | 74 => 0x3F7746EA#32
  | 75 => 0xBF57E880#32
  | 76 => 0x3E31D0D4#32
  | 77 => 0x3F1BD7CA#32
  | 78 => 0xBF7F069E#32
  | 79 => 0x3F3CBE35#32
  | 80 => 0x80000000#32
  | 81 => 0xBF3CBE35#32
  | 82 => 0x3F7F069E#32
  | 83 => 0xBF1BD7CA#32
  | 84 => 0xBE31D0D4#32
  | 85 => 0x3F57E880#32
  | 86 => 0xBF7746EA#32
  | 87 => 0x3EEC6A50#32
  | 88 => 0x3EAF1D44#32
  | 89 => 0xBF6C835E#32
  | 90 => 0x3F6803CA#32
  | 91 => 0xBE99F61C#32
  | 92 => 0xBF000000#32
  | 93 => 0x3F79EE89#32
  | 94 => 0xBF51B3F3#32
  | 95 => 0x3E05A8A8#32
  | 96 => 0x3F248DBB#32
  | 97 => 0xBF7FC1A0#32
  | 98 => 0x3F3504F3#32
  | 99 => 0x3D32AA3E#32
  | 100 => 0xBF441B7D#32
  | 101 => 0x3F7DCF55#32
  | 102 => 0xBF12D5E8#32
  | 103 => 0xBE5DA259#32
  | 104 => 0x3F5DB3D7#32
  | 105 => 0xBF7426CB#32
  | 106 => 0x3ED8616C#32
  | 107 => 0x3EC3EF15#32
  | 108 => 0xBF708FB2#32
  | 109 => 0x3F631324#32
  | 110 => 0xBE8483EE#32
  | 111 => 0xBF098C78#32
  | 112 => 0x3F7C1C5C#32
  | 113 => 0xBF4B1934#32
  | 114 => 0x3DB27EB6#32
  | 115 => 0x3F2CF37B#32
  | 116 => 0xBF800000#32
  | 117 => 0x3F2CF37B#32
  | 118 => 0x3DB27EB6#32
  | 119 => 0xBF4B1934#32
  | 120 => 0x3F7C1C5C#32
  | 121 => 0xBF098C78#32
  | 122 => 0xBE8483EE#32
  | 123 => 0x3F631324#32
  | 124 => 0xBF708FB2#32
  | 125 => 0x3EC3EF15#32
  | 126 => 0x3ED8616C#32
  | 127 => 0xBF7426CB#32
  | _ => 0#32

noncomputable abbrev lit1t0_240 (i : Nat) : BitVec 32 := match i % 128 with
  | 0 => 0x3F5DB3D7#32
  | 1 => 0xBE5DA259#32
  | 2 => 0xBF12D5E8#32
  | 3 => 0x3F7DCF55#32
  | 4 => 0xBF441B7D#32
  | 5 => 0x3D32AA3E#32
  | 6 => 0x3F3504F3#32
  | 7 => 0xBF7FC1A0#32
  | 8 => 0x3F248DBB#32
  | 9 => 0x3E05A8A8#32
  | 10 => 0xBF51B3F3#32
  | 11 => 0x3F79EE89#32
  | 12 => 0xBF000000#32
  | 13 => 0xBE99F61C#32
  | 14 => 0x3F6803CA#32
  | 15 => 0xBF6C835E#32
  | 16 => 0x3EAF1D44#32
  | 17 => 0x3EEC6A50#32
  | 18 => 0xBF7746EA#32
  | 19 => 0x3F57E880#32
  | 20 => 0xBE31D0D4#32
  | 21 => 0xBF1BD7CA#32
  | 22 => 0x3F7F069E#32
  | 23 => 0xBF3CBE35#32
  | 24 => 0xA50D3132#32
  | 25 => 0x3F3CBE35#32
  | 26 => 0xBF7F069E#32
  | 27 => 0x3F1BD7CA#32
  | 28 => 0x3E31D0D4#32
  | 29 => 0xBF57E880#32
  | 30 => 0x3F7746EA#32
  | 31 => 0xBEEC6A50#32
  | 32 => 0xBEAF1D44#32
  | 33 => 0x3F6C835E#32
  | 34 => 0xBF6803CA#32
  | 35 => 0x3E99F61C#32
  | 36 => 0x3F000000#32
  | 37 => 0xBF79EE89#32
  | 38 => 0x3F51B3F3#32
  | 39 => 0xBE05A8A8#32
  | 40 => 0xBF248DBB#32
  | 41 => 0x3F7FC1A0#32
  | 42 => 0xBF3504F3#32
  | 43 => 0xBD32AA3E#32
  | 44 => 0x3F441B7D#32
  | 45 => 0xBF7DCF55#32
  | 46 => 0x3F12D5E8#32
  | 47 => 0x3E5DA259#32
  | 48 => 0xBF5DB3D7#32
  | 49 => 0x3F7426CB#32
  | 50 => 0xBED8616C#32
  | 51 => 0xBEC3EF15#32
  | 52 => 0x3F708FB2#32
  | 53 => 0xBF631324#32
  | 54 => 0x3E8483EE#32
  | 55 => 0x3F098C78#32
  | 56 => 0xBF7C1C5C#32
  | 57 => 0x3F4B1934#32
  | 58 => 0xBDB27EB6#32
  | 59 => 0xBF2CF37B#32
  | 60 => 0x3F800000#32
  | 61 => 0xBF2CF37B#32
  | 62 => 0xBDB27EB6#32
  | 63 => 0x3F4B1934#32
  | 64 => 0xBF7C1C5C#32
  | 65 => 0x3F098C78#32
  | 66 => 0x3E8483EE#32
  | 67 => 0xBF631324#32
  | 68 => 0x3F708FB2#32
  | 69 => 0xBEC3EF15#32
  | 70 => 0xBED8616C#32
  | 71 => 0x3F7426CB#32
  | 72 => 0xBF5DB3D7#32
  | 73 => 0x3E5DA259#32
  | 74 => 0x3F12D5E8#32
  | 75 => 0xBF7DCF55#32
  | 76 => 0x3F441B7D#32
  | 77 => 0xBD32AA3E#32
  | 78 => 0xBF3504F3#32
  | 79 => 0x3F7FC1A0#32
  | 80 => 0xBF248DBB#32
  | 81 => 0xBE05A8A8#32
  | 82 => 0x3F51B3F3#32
  | 83 => 0xBF79EE89#32
  | 84 => 0x3F000000#32
  | 85 => 0x3E99F61C#32
  | 86 => 0xBF6803CA#32
  | 87 => 0x3F6C835E#32
  | 88 => 0xBEAF1D44#32
  | 89 => 0xBEEC6A50#32
  | 90 => 0x3F7746EA#32
  | 91 => 0xBF57E880#32
  | 92 => 0x3E31D0D4#32
  | 93 => 0x3F1BD7CA#32
  | 94 => 0xBF7F069E#32
  | 95 => 0x3F3CBE35#32
  | 96 => 0x80000000#32
  | 97 => 0xBF38ECD8#32
  | 98 => 0x3F7FC1A0#32
  | 99 => 0xBF28CAE3#32
  | 100 => 0xBDB27EB6#32
  | 101 => 0x3F47A682#32
  | 102 => 0xBF7DCF55#32
  | 103 => 0x3F176012#32
  | 104 => 0x3E31D0D4#32
  | 105 => 0xBF54DB31#32
  | 106 => 0x3F79EE89#32
  | 107 => 0xBF04CE53#32
  | 108 => 0xBE8483EE#32
  | 109 => 0x3F60712A#32
  | 110 => 0xBF7426CB#32
  | 111 => 0x3EE273AA#32
  | 112 => 0x3EAF1D44#32
  | 113 => 0xBF6A51DA#32
  | 114 => 0x3F6C835E#32
  | 115 => 0xBEB9917B#32
  | 116 => 0xBED8616C#32
  | 117 => 0x3F726A03#32
  | 118 => 0xBF631324#32
  | 119 => 0x3E8F45C0#32
  | 120 => 0x3F000000#32
  | 121 => 0xBF78A9E0#32
  | 122 => 0x3F57E880#32
  | 123 => 0xBE47C5C2#32
  | 124 => 0xBF12D5E8#32
  | 125 => 0x3F7D0543#32
  | 126 => 0xBF4B1934#32
  | 127 => 0x3DDEF599#32
  | _ => 0#32

noncomputable abbrev lit1t0_241 (i : Nat) : BitVec 32 := match i % 128 with
  | 0 => 0x3F248DBB#32
  | 1 => 0xBF7F73AF#32
  | 2 => 0x3F3CBE35#32
  | 3 => 0xBCB2B521#32
  | 4 => 0xBF3504F3#32
  | 5 => 0x3F7FF067#32
  | 6 => 0xBF2CF37B#32
  | 7 => 0xBD85F213#32
  | 8 => 0x3F441B7D#32
  | 9 => 0xBF7E7A7A#32
  | 10 => 0x3F1BD7CA#32
  | 11 => 0x3E1BC63C#32
  | 12 => 0xBF51B3F3#32
  | 13 => 0x3F7B14BE#32
  | 14 => 0xBF098C78#32
  | 15 => 0xBE7363EE#32
  | 16 => 0x3F5DB3D7#32
  | 17 => 0xBF75C5D4#32
  | 18 => 0x3EEC6A50#32
  | 19 => 0x3EA493B7#32
  | 20 => 0xBF6803CA#32
  | 21 => 0x3F6E9811#32
  | 22 => 0xBEC3EF15#32
  | 23 => 0xBECE34D0#32
  | 24 => 0x3F708FB2#32
  | 25 => 0xBF659974#32
  | 26 => 0x3E99F61C#32
  | 27 => 0x3EF64429#32
  | 28 => 0xBF7746EA#32
  | 29 => 0x3F5ADB81#32
  | 30 => 0xBE5DA259#32
  | 31 => 0xBF0E39DA#32
  | 32 => 0x3F7C1C5C#32
  | 33 => 0xBF4E7327#32
  | 34 => 0x3E05A8A8#32
  | 35 => 0x3F203C85#32
  | 36 => 0xBF7F069E#32
  | 37 => 0x3F407893#32
  | 38 => 0xBD32AA3E#32
  | 39 => 0xBF310700#32
  | 40 => 0x3F800000#32
  | 41 => 0xBF310700#32
  | 42 => 0xBD32AA3E#32
  | 43 => 0x3F407893#32
  | 44 => 0xBF7F069E#32
  | 45 => 0x3F203C85#32
  | 46 => 0x3E05A8A8#32
  | 47 => 0xBF4E7327#32
  | 48 => 0x3F7C1C5C#32
  | 49 => 0xBF0E39DA#32
  | 50 => 0xBE5DA259#32
  | 51 => 0x3F5ADB81#32
  | 52 => 0xBF7746EA#32
  | 53 => 0x3EF64429#32
  | 54 => 0x3E99F61C#32
  | 55 => 0xBF659974#32
  | 56 => 0x3F708FB2#32
  | 57 => 0xBECE34D0#32
  | 58 => 0xBEC3EF15#32
  | 59 => 0x3F6E9811#32
  | 60 => 0xBF6803CA#32
  | 61 => 0x3EA493B7#32
  | 62 => 0x3EEC6A50#32
  | 63 => 0xBF75C5D4#32
  | 64 => 0x3F5DB3D7#32
  | 65 => 0xBE7363EE#32
  | 66 => 0xBF098C78#32
  | 67 => 0x3F7B14BE#32
  | 68 => 0xBF51B3F3#32
  | 69 => 0x3E1BC63C#32
  | 70 => 0x3F1BD7CA#32
  | 71 => 0xBF7E7A7A#32
  | 72 => 0x3F441B7D#32
  | 73 => 0xBD85F213#32
  | 74 => 0xBF2CF37B#32
  | 75 => 0x3F7FF067#32
  | 76 => 0xBF3504F3#32
  | 77 => 0xBCB2B521#32
  | 78 => 0x3F3CBE35#32
  | 79 => 0xBF7F73AF#32
  | 80 => 0x3F248DBB#32
  | 81 => 0x3DDEF599#32
  | 82 => 0xBF4B1934#32
  | 83 => 0x3F7D0543#32
  | 84 => 0xBF12D5E8#32
  | 85 => 0xBE47C5C2#32
  | 86 => 0x3F57E880#32
  | 87 => 0xBF78A9E0#32
  | 88 => 0x3F000000#32
  | 89 => 0x3E8F45C0#32
  | 90 => 0xBF631324#32
  | 91 => 0x3F726A03#32
  | 92 => 0xBED8616C#32
  | 93 => 0xBEB9917B#32
  | 94 => 0x3F6C835E#32
  | 95 => 0xBF6A51DA#32
  | 96 => 0x3EAF1D44#32
  | 97 => 0x3EE273AA#32
  | 98 => 0xBF7426CB#32
  | 99 => 0x3F60712A#32
  | 100 => 0xBE8483EE#32
  | 101 => 0xBF04CE53#32
  | 102 => 0x3F79EE89#32
  | 103 => 0xBF54DB31#32
  | 104 => 0x3E31D0D4#32
  | 105 => 0x3F176012#32
  | 106 => 0xBF7DCF55#32
  | 107 => 0x3F47A682#32
  | 108 => 0xBDB27EB6#32
  | 109 => 0xBF28CAE3#32
  | 110 => 0x3F7FC1A0#32
  | 111 => 0xBF38ECD8#32
  | 112 => 0xA50D3132#32
  | 113 => 0x3F38ECD8#32
  | 114 => 0xBF7FC1A0#32
  | 115 => 0x3F28CAE3#32
  | 116 => 0x3DB27EB6#32
  | 117 => 0xBF47A682#32
  | 118 => 0x3F7DCF55#32
  | 119 => 0xBF176012#32
  | 120 => 0xBE31D0D4#32
  | 121 => 0x3F54DB31#32
  | 122 => 0xBF79EE89#32
  | 123 => 0x3F04CE53#32
  | 124 => 0x3E8483EE#32
  | 125 => 0xBF60712A#32
  | 126 => 0x3F7426CB#32
  | 127 => 0xBEE273AA#32
  | _ => 0#32

noncomputable abbrev lit1t0_242 (i : Nat) : BitVec 32 := match i % 128 with
  | 0 => 0xBEAF1D44#32
  | 1 => 0x3F6A51DA#32
  | 2 => 0xBF6C835E#32
  | 3 => 0x3EB9917B#32
  | 4 => 0x3ED8616C#32
  | 5 => 0xBF726A03#32
  | 6 => 0x3F631324#32
  | 7 => 0xBE8F45C0#32
  | 8 => 0xBF000000#32
  | 9 => 0x3F78A9E0#32
  | 10 => 0xBF57E880#32
  | 11 => 0x3E47C5C2#32
  | 12 => 0x3F12D5E8#32
  | 13 => 0xBF7D0543#32
  | 14 => 0x3F4B1934#32
  | 15 => 0xBDDEF599#32
  | 16 => 0xBF248DBB#32
  | 17 => 0x3F7F73AF#32
  | 18 => 0xBF3CBE35#32
  | 19 => 0x3CB2B521#32
  | 20 => 0x3F3504F3#32
  | 21 => 0xBF7FF067#32
  | 22 => 0x3F2CF37B#32
  | 23 => 0x3D85F213#32
  | 24 => 0xBF441B7D#32
  | 25 => 0x3F7E7A7A#32
  | 26 => 0xBF1BD7CA#32
  | 27 => 0xBE1BC63C#32
  | 28 => 0x3F51B3F3#32
  | 29 => 0xBF7B14BE#32
  | 30 => 0x3F098C78#32
  | 31 => 0x3E7363EE#32
  | 32 => 0xBF5DB3D7#32
  | 33 => 0x3F75C5D4#32
  | 34 => 0xBEEC6A50#32
  | 35 => 0xBEA493B7#32
  | 36 => 0x3F6803CA#32
  | 37 => 0xBF6E9811#32
  | 38 => 0x3EC3EF15#32
  | 39 => 0x3ECE34D0#32
  | 40 => 0xBF708FB2#32
  | 41 => 0x3F659974#32
  | 42 => 0xBE99F61C#32
  | 43 => 0xBEF64429#32
  | 44 => 0x3F7746EA#32
  | 45 => 0xBF5ADB81#32
  | 46 => 0x3E5DA259#32
  | 47 => 0x3F0E39DA#32
  | 48 => 0xBF7C1C5C#32
  | 49 => 0x3F4E7327#32
  | 50 => 0xBE05A8A8#32
  | 51 => 0xBF203C85#32
  | 52 => 0x3F7F069E#32
  | 53 => 0xBF407893#32
  | 54 => 0x3D32AA3E#32
  | 55 => 0x3F310700#32
  | 56 => 0xBF800000#32
  | 57 => 0x3F310700#32
  | 58 => 0x3D32AA3E#32
  | 59 => 0xBF407893#32
  | 60 => 0x3F7F069E#32
  | 61 => 0xBF203C85#32
  | 62 => 0xBE05A8A8#32
  | 63 => 0x3F4E7327#32
  | 64 => 0xBF7C1C5C#32
  | 65 => 0x3F0E39DA#32
  | 66 => 0x3E5DA259#32
  | 67 => 0xBF5ADB81#32
  | 68 => 0x3F7746EA#32
  | 69 => 0xBEF64429#32
  | 70 => 0xBE99F61C#32
  | 71 => 0x3F659974#32
  | 72 => 0xBF708FB2#32
  | 73 => 0x3ECE34D0#32
  | 74 => 0x3EC3EF15#32
  | 75 => 0xBF6E9811#32
  | 76 => 0x3F6803CA#32
  | 77 => 0xBEA493B7#32
  | 78 => 0xBEEC6A50#32
  | 79 => 0x3F75C5D4#32
  | 80 => 0xBF5DB3D7#32
  | 81 => 0x3E7363EE#32
  | 82 => 0x3F098C78#32
  | 83 => 0xBF7B14BE#32
  | 84 => 0x3F51B3F3#32
  | 85 => 0xBE1BC63C#32
  | 86 => 0xBF1BD7CA#32
  | 87 => 0x3F7E7A7A#32
  | 88 => 0xBF441B7D#32
  | 89 => 0x3D85F213#32
  | 90 => 0x3F2CF37B#32
  | 91 => 0xBF7FF067#32
  | 92 => 0x3F3504F3#32
  | 93 => 0x3CB2B521#32
  | 94 => 0xBF3CBE35#32
  | 95 => 0x3F7F73AF#32
  | 96 => 0xBF248DBB#32
  | 97 => 0xBDDEF599#32
  | 98 => 0x3F4B1934#32
  | 99 => 0xBF7D0543#32
  | 100 => 0x3F12D5E8#32
  | 101 => 0x3E47C5C2#32
  | 102 => 0xBF57E880#32
  | 103 => 0x3F78A9E0#32
  | 104 => 0xBF000000#32
  | 105 => 0xBE8F45C0#32
  | 106 => 0x3F631324#32
  | 107 => 0xBF726A03#32
  | 108 => 0x3ED8616C#32
  | 109 => 0x3EB9917B#32
  | 110 => 0xBF6C835E#32
  | 111 => 0x3F6A51DA#32
  | 112 => 0xBEAF1D44#32
  | 113 => 0xBEE273AA#32
  | 114 => 0x3F7426CB#32
  | 115 => 0xBF60712A#32
  | 116 => 0x3E8483EE#32
  | 117 => 0x3F04CE53#32
  | 118 => 0xBF79EE89#32
  | 119 => 0x3F54DB31#32
  | 120 => 0xBE31D0D4#32
  | 121 => 0xBF176012#32
  | 122 => 0x3F7DCF55#32
  | 123 => 0xBF47A682#32
  | 124 => 0x3DB27EB6#32
  | 125 => 0x3F28CAE3#32
  | 126 => 0xBF7FC1A0#32
  | 127 => 0x3F38ECD8#32
  | _ => 0#32

noncomputable abbrev lit1t0_243 (i : Nat) : BitVec 32 := match i % 128 with
  | 0 => 0x80000000#32
  | 1 => 0xBF3504F3#32
  | 2 => 0x3F800000#32
  | 3 => 0xBF3504F3#32
  | 4 => 0xA50D3132#32
  | 5 => 0x3F3504F3#32
  | 6 => 0xBF800000#32
  | 7 => 0x3F3504F3#32
  | 8 => 0x80000000#32
  | 9 => 0xBF3504F3#32
  | 10 => 0x3F800000#32
  | 11 => 0xBF3504F3#32
  | 12 => 0xA50D3132#32
  | 13 => 0x3F3504F3#32
  | 14 => 0xBF800000#32
  | 15 => 0x3F3504F3#32
  | 16 => 0x80000000#32
  | 17 => 0xBF3504F3#32
  | 18 => 0x3F800000#32
  | 19 => 0xBF3504F3#32
  | 20 => 0xA50D3132#32
  | 21 => 0x3F3504F3#32
  | 22 => 0xBF800000#32
  | 23 => 0x3F3504F3#32
  | 24 => 0x80000000#32
  | 25 => 0xBF3504F3#32
  | 26 => 0x3F800000#32
  | 27 => 0xBF3504F3#32
  | 28 => 0xA50D3132#32
  | 29 => 0x3F3504F3#32
  | 30 => 0xBF800000#32
  | 31 => 0x3F3504F3#32
  | 32 => 0x80000000#32
  | 33 => 0xBF3504F3#32
  | 34 => 0x3F800000#32
  | 35 => 0xBF3504F3#32
  | 36 => 0xA50D3132#32
  | 37 => 0x3F3504F3#32
  | 38 => 0xBF800000#32
  | 39 => 0x3F3504F3#32
  | 40 => 0x80000000#32
  | 41 => 0xBF3504F3#32
  | 42 => 0x3F800000#32
  | 43 => 0xBF3504F3#32
  | 44 => 0xA50D3132#32
  | 45 => 0x3F3504F3#32
  | 46 => 0xBF800000#32
  | 47 => 0x3F3504F3#32
  | 48 => 0x80000000#32
  | 49 => 0xBF3504F3#32
  | 50 => 0x3F800000#32
  | 51 => 0xBF3504F3#32
  | 52 => 0xA50D3132#32
  | 53 => 0x3F3504F3#32
  | 54 => 0xBF800000#32
  | 55 => 0x3F3504F3#32
  | 56 => 0x80000000#32
  | 57 => 0xBF3504F3#32
  | 58 => 0x3F800000#32
  | 59 => 0xBF3504F3#32
  | 60 => 0xA50D3132#32
  | 61 => 0x3F3504F3#32
  | 62 => 0xBF800000#32
  | 63 => 0x3F3504F3#32
  | 64 => 0x80000000#32
  | 65 => 0xBF3504F3#32
  | 66 => 0x3F800000#32
  | 67 => 0xBF3504F3#32
  | 68 => 0xA50D3132#32
  | 69 => 0x3F3504F3#32
  | 70 => 0xBF800000#32
  | 71 => 0x3F3504F3#32
  | 72 => 0x80000000#32
  | 73 => 0xBF3504F3#32
  | 74 => 0x3F800000#32
  | 75 => 0xBF3504F3#32
  | 76 => 0xA50D3132#32
  | 77 => 0x3F3504F3#32
  | 78 => 0xBF800000#32
  | 79 => 0x3F3504F3#32
  | 80 => 0x80000000#32
  | 81 => 0xBF3504F3#32
  | 82 => 0x3F800000#32
  | 83 => 0xBF3504F3#32
  | 84 => 0xA50D3132#32
  | 85 => 0x3F3504F3#32
  | 86 => 0xBF800000#32
  | 87 => 0x3F3504F3#32
  | 88 => 0x80000000#32
  | 89 => 0xBF3504F3#32
  | 90 => 0x3F800000#32
  | 91 => 0xBF3504F3#32
  | 92 => 0xA50D3132#32
  | 93 => 0x3F3504F3#32
  | 94 => 0xBF800000#32
  | 95 => 0x3F3504F3#32
  | 96 => 0x80000000#32
  | 97 => 0xBF3504F3#32
  | 98 => 0x3F800000#32
  | 99 => 0xBF3504F3#32
  | 100 => 0xA50D3132#32
  | 101 => 0x3F3504F3#32
  | 102 => 0xBF800000#32
  | 103 => 0x3F3504F3#32
  | 104 => 0x80000000#32
  | 105 => 0xBF3504F3#32
  | 106 => 0x3F800000#32
  | 107 => 0xBF3504F3#32
  | 108 => 0xA50D3132#32
  | 109 => 0x3F3504F3#32
  | 110 => 0xBF800000#32
  | 111 => 0x3F3504F3#32
  | 112 => 0x80000000#32
  | 113 => 0xBF3504F3#32
  | 114 => 0x3F800000#32
  | 115 => 0xBF3504F3#32
  | 116 => 0xA50D3132#32
  | 117 => 0x3F3504F3#32
  | 118 => 0xBF800000#32
  | 119 => 0x3F3504F3#32
  | 120 => 0x80000000#32
  | 121 => 0xBF3504F3#32
  | 122 => 0x3F800000#32
  | 123 => 0xBF3504F3#32
  | 124 => 0xA50D3132#32
  | 125 => 0x3F3504F3#32
  | 126 => 0xBF800000#32
  | 127 => 0x3F3504F3#32
  | _ => 0#32

noncomputable abbrev lit1t0_244 (i : Nat) : BitVec 32 := match i % 128 with
  | 0 => 0x80000000#32
  | 1 => 0xBF3504F3#32
  | 2 => 0x3F800000#32
  | 3 => 0xBF3504F3#32
  | 4 => 0xA50D3132#32
  | 5 => 0x3F3504F3#32
  | 6 => 0xBF800000#32
  | 7 => 0x3F3504F3#32
  | 8 => 0x80000000#32
  | 9 => 0xBF3504F3#32
  | 10 => 0x3F800000#32
  | 11 => 0xBF3504F3#32
  | 12 => 0xA50D3132#32
  | 13 => 0x3F3504F3#32
  | 14 => 0xBF800000#32
  | 15 => 0x3F3504F3#32
  | 16 => 0x80000000#32
  | 17 => 0xBF3504F3#32
  | 18 => 0x3F800000#32
  | 19 => 0xBF3504F3#32
  | 20 => 0xA50D3132#32
  | 21 => 0x3F3504F3#32
  | 22 => 0xBF800000#32
  | 23 => 0x3F3504F3#32
  | 24 => 0x80000000#32
  | 25 => 0xBF3504F3#32
  | 26 => 0x3F800000#32
  | 27 => 0xBF3504F3#32
  | 28 => 0xA50D3132#32
  | 29 => 0x3F3504F3#32
  | 30 => 0xBF800000#32
  | 31 => 0x3F3504F3#32
  | 32 => 0x80000000#32
  | 33 => 0xBF3504F3#32
  | 34 => 0x3F800000#32
  | 35 => 0xBF3504F3#32
  | 36 => 0xA50D3132#32
  | 37 => 0x3F3504F3#32
  | 38 => 0xBF800000#32
  | 39 => 0x3F3504F3#32
  | 40 => 0x80000000#32
  | 41 => 0xBF3504F3#32
  | 42 => 0x3F800000#32
  | 43 => 0xBF3504F3#32
  | 44 => 0xA50D3132#32
  | 45 => 0x3F3504F3#32
  | 46 => 0xBF800000#32
  | 47 => 0x3F3504F3#32
  | 48 => 0x80000000#32
  | 49 => 0xBF3504F3#32
  | 50 => 0x3F800000#32
  | 51 => 0xBF3504F3#32
  | 52 => 0xA50D3132#32
  | 53 => 0x3F3504F3#32
  | 54 => 0xBF800000#32
  | 55 => 0x3F3504F3#32
  | 56 => 0x80000000#32
  | 57 => 0xBF3504F3#32
  | 58 => 0x3F800000#32
  | 59 => 0xBF3504F3#32
  | 60 => 0xA50D3132#32
  | 61 => 0x3F3504F3#32
  | 62 => 0xBF800000#32
  | 63 => 0x3F3504F3#32
  | 64 => 0x80000000#32
  | 65 => 0xBF3504F3#32
  | 66 => 0x3F800000#32
  | 67 => 0xBF3504F3#32
  | 68 => 0xA50D3132#32
  | 69 => 0x3F3504F3#32
  | 70 => 0xBF800000#32
  | 71 => 0x3F3504F3#32
  | 72 => 0x80000000#32
  | 73 => 0xBF3504F3#32
  | 74 => 0x3F800000#32
  | 75 => 0xBF3504F3#32
  | 76 => 0xA50D3132#32
  | 77 => 0x3F3504F3#32
  | 78 => 0xBF800000#32
  | 79 => 0x3F3504F3#32
  | 80 => 0x80000000#32
  | 81 => 0xBF3504F3#32
  | 82 => 0x3F800000#32
  | 83 => 0xBF3504F3#32
  | 84 => 0xA50D3132#32
  | 85 => 0x3F3504F3#32
  | 86 => 0xBF800000#32
  | 87 => 0x3F3504F3#32
  | 88 => 0x80000000#32
  | 89 => 0xBF3504F3#32
  | 90 => 0x3F800000#32
  | 91 => 0xBF3504F3#32
  | 92 => 0xA50D3132#32
  | 93 => 0x3F3504F3#32
  | 94 => 0xBF800000#32
  | 95 => 0x3F3504F3#32
  | 96 => 0x80000000#32
  | 97 => 0xBF3504F3#32
  | 98 => 0x3F800000#32
  | 99 => 0xBF3504F3#32
  | 100 => 0xA50D3132#32
  | 101 => 0x3F3504F3#32
  | 102 => 0xBF800000#32
  | 103 => 0x3F3504F3#32
  | 104 => 0x80000000#32
  | 105 => 0xBF3504F3#32
  | 106 => 0x3F800000#32
  | 107 => 0xBF3504F3#32
  | 108 => 0xA50D3132#32
  | 109 => 0x3F3504F3#32
  | 110 => 0xBF800000#32
  | 111 => 0x3F3504F3#32
  | 112 => 0x80000000#32
  | 113 => 0xBF3504F3#32
  | 114 => 0x3F800000#32
  | 115 => 0xBF3504F3#32
  | 116 => 0xA50D3132#32
  | 117 => 0x3F3504F3#32
  | 118 => 0xBF800000#32
  | 119 => 0x3F3504F3#32
  | 120 => 0x80000000#32
  | 121 => 0xBF3504F3#32
  | 122 => 0x3F800000#32
  | 123 => 0xBF3504F3#32
  | 124 => 0xA50D3132#32
  | 125 => 0x3F3504F3#32
  | 126 => 0xBF800000#32
  | 127 => 0x3F3504F3#32
  | _ => 0#32

noncomputable abbrev lit1t0_245 (i : Nat) : BitVec 32 := match i % 128 with
  | 0 => 0x80000000#32
  | 1 => 0xBF3504F3#32
  | 2 => 0x3F800000#32
  | 3 => 0xBF3504F3#32
  | 4 => 0xA50D3132#32
  | 5 => 0x3F3504F3#32
  | 6 => 0xBF800000#32
  | 7 => 0x3F3504F3#32
  | 8 => 0x80000000#32
  | 9 => 0xBF3504F3#32
  | 10 => 0x3F800000#32
  | 11 => 0xBF3504F3#32
  | 12 => 0xA50D3132#32
  | 13 => 0x3F3504F3#32
  | 14 => 0xBF800000#32
  | 15 => 0x3F3504F3#32
  | 16 => 0x80000000#32
  | 17 => 0xBF3504F3#32
  | 18 => 0x3F800000#32
  | 19 => 0xBF3504F3#32
  | 20 => 0xA50D3132#32
  | 21 => 0x3F3504F3#32
  | 22 => 0xBF800000#32
  | 23 => 0x3F3504F3#32
  | 24 => 0x80000000#32
  | 25 => 0xBF3504F3#32
  | 26 => 0x3F800000#32
  | 27 => 0xBF3504F3#32
  | 28 => 0xA50D3132#32
  | 29 => 0x3F3504F3#32
  | 30 => 0xBF800000#32
  | 31 => 0x3F3504F3#32
  | 32 => 0x80000000#32
  | 33 => 0xBF310700#32
  | 34 => 0x3F7FC1A0#32
  | 35 => 0xBF407893#32
  | 36 => 0x3DB27EB6#32
  | 37 => 0x3F203C85#32
  | 38 => 0xBF7DCF55#32
  | 39 => 0x3F4E7327#32
  | 40 => 0xBE31D0D4#32
  | 41 => 0xBF0E39DA#32
  | 42 => 0x3F79EE89#32
  | 43 => 0xBF5ADB81#32
  | 44 => 0x3E8483EE#32
  | 45 => 0x3EF64429#32
  | 46 => 0xBF7426CB#32
  | 47 => 0x3F659974#32
  | 48 => 0xBEAF1D44#32
  | 49 => 0xBECE34D0#32
  | 50 => 0x3F6C835E#32
  | 51 => 0xBF6E9811#32
  | 52 => 0x3ED8616C#32
  | 53 => 0x3EA493B7#32
  | 54 => 0xBF631324#32
  | 55 => 0x3F75C5D4#32
  | 56 => 0xBF000000#32
  | 57 => 0xBE7363EE#32
  | 58 => 0x3F57E880#32
  | 59 => 0xBF7B14BE#32
  | 60 => 0x3F12D5E8#32
  | 61 => 0x3E1BC63C#32
  | 62 => 0xBF4B1934#32
  | 63 => 0x3F7E7A7A#32
  | 64 => 0xBF248DBB#32
  | 65 => 0xBD85F213#32
  | 66 => 0x3F3CBE35#32
  | 67 => 0xBF7FF067#32
  | 68 => 0x3F3504F3#32
  | 69 => 0xBCB2B521#32
  | 70 => 0xBF2CF37B#32
  | 71 => 0x3F7F73AF#32
  | 72 => 0xBF441B7D#32
  | 73 => 0x3DDEF599#32
  | 74 => 0x3F1BD7CA#32
  | 75 => 0xBF7D0543#32
  | 76 => 0x3F51B3F3#32
  | 77 => 0xBE47C5C2#32
  | 78 => 0xBF098C78#32
  | 79 => 0x3F78A9E0#32
  | 80 => 0xBF5DB3D7#32
  | 81 => 0x3E8F45C0#32
  | 82 => 0x3EEC6A50#32
  | 83 => 0xBF726A03#32
  | 84 => 0x3F6803CA#32
  | 85 => 0xBEB9917B#32
  | 86 => 0xBEC3EF15#32
  | 87 => 0x3F6A51DA#32
  | 88 => 0xBF708FB2#32
  | 89 => 0x3EE273AA#32
  | 90 => 0x3E99F61C#32
  | 91 => 0xBF60712A#32
  | 92 => 0x3F7746EA#32
  | 93 => 0xBF04CE53#32
  | 94 => 0xBE5DA259#32
  | 95 => 0x3F54DB31#32
  | 96 => 0xBF7C1C5C#32
  | 97 => 0x3F176012#32
  | 98 => 0x3E05A8A8#32
  | 99 => 0xBF47A682#32
  | 100 => 0x3F7F069E#32
  | 101 => 0xBF28CAE3#32
  | 102 => 0xBD32AA3E#32
  | 103 => 0x3F38ECD8#32
  | 104 => 0xBF800000#32
  | 105 => 0x3F38ECD8#32
  | 106 => 0xBD32AA3E#32
  | 107 => 0xBF28CAE3#32
  | 108 => 0x3F7F069E#32
  | 109 => 0xBF47A682#32
  | 110 => 0x3E05A8A8#32
  | 111 => 0x3F176012#32
  | 112 => 0xBF7C1C5C#32
  | 113 => 0x3F54DB31#32
  | 114 => 0xBE5DA259#32
  | 115 => 0xBF04CE53#32
  | 116 => 0x3F7746EA#32
  | 117 => 0xBF60712A#32
  | 118 => 0x3E99F61C#32
  | 119 => 0x3EE273AA#32
  | 120 => 0xBF708FB2#32
  | 121 => 0x3F6A51DA#32
  | 122 => 0xBEC3EF15#32
  | 123 => 0xBEB9917B#32
  | 124 => 0x3F6803CA#32
  | 125 => 0xBF726A03#32
  | 126 => 0x3EEC6A50#32
  | 127 => 0x3E8F45C0#32
  | _ => 0#32

noncomputable abbrev lit1t0_246 (i : Nat) : BitVec 32 := match i % 128 with
  | 0 => 0xBF5DB3D7#32
  | 1 => 0x3F78A9E0#32
  | 2 => 0xBF098C78#32
  | 3 => 0xBE47C5C2#32
  | 4 => 0x3F51B3F3#32
  | 5 => 0xBF7D0543#32
  | 6 => 0x3F1BD7CA#32
  | 7 => 0x3DDEF599#32
  | 8 => 0xBF441B7D#32
  | 9 => 0x3F7F73AF#32
  | 10 => 0xBF2CF37B#32
  | 11 => 0xBCB2B521#32
  | 12 => 0x3F3504F3#32
  | 13 => 0xBF7FF067#32
  | 14 => 0x3F3CBE35#32
  | 15 => 0xBD85F213#32
  | 16 => 0xBF248DBB#32
  | 17 => 0x3F7E7A7A#32
  | 18 => 0xBF4B1934#32
  | 19 => 0x3E1BC63C#32
  | 20 => 0x3F12D5E8#32
  | 21 => 0xBF7B14BE#32
  | 22 => 0x3F57E880#32
  | 23 => 0xBE7363EE#32
  | 24 => 0xBF000000#32
  | 25 => 0x3F75C5D4#32
  | 26 => 0xBF631324#32
  | 27 => 0x3EA493B7#32
  | 28 => 0x3ED8616C#32
  | 29 => 0xBF6E9811#32
  | 30 => 0x3F6C835E#32
  | 31 => 0xBECE34D0#32
  | 32 => 0xBEAF1D44#32
  | 33 => 0x3F659974#32
  | 34 => 0xBF7426CB#32
  | 35 => 0x3EF64429#32
  | 36 => 0x3E8483EE#32
  | 37 => 0xBF5ADB81#32
  | 38 => 0x3F79EE89#32
  | 39 => 0xBF0E39DA#32
  | 40 => 0xBE31D0D4#32
  | 41 => 0x3F4E7327#32
  | 42 => 0xBF7DCF55#32
  | 43 => 0x3F203C85#32
  | 44 => 0x3DB27EB6#32
  | 45 => 0xBF407893#32
  | 46 => 0x3F7FC1A0#32
  | 47 => 0xBF310700#32
  | 48 => 0xA50D3132#32
  | 49 => 0x3F310700#32
  | 50 => 0xBF7FC1A0#32
  | 51 => 0x3F407893#32
  | 52 => 0xBDB27EB6#32
  | 53 => 0xBF203C85#32
  | 54 => 0x3F7DCF55#32
  | 55 => 0xBF4E7327#32
  | 56 => 0x3E31D0D4#32
  | 57 => 0x3F0E39DA#32
  | 58 => 0xBF79EE89#32
  | 59 => 0x3F5ADB81#32
  | 60 => 0xBE8483EE#32
  | 61 => 0xBEF64429#32
  | 62 => 0x3F7426CB#32
  | 63 => 0xBF659974#32
  | 64 => 0x3EAF1D44#32
  | 65 => 0x3ECE34D0#32
  | 66 => 0xBF6C835E#32
  | 67 => 0x3F6E9811#32
  | 68 => 0xBED8616C#32
  | 69 => 0xBEA493B7#32
  | 70 => 0x3F631324#32
  | 71 => 0xBF75C5D4#32
  | 72 => 0x3F000000#32
  | 73 => 0x3E7363EE#32
  | 74 => 0xBF57E880#32
  | 75 => 0x3F7B14BE#32
  | 76 => 0xBF12D5E8#32
  | 77 => 0xBE1BC63C#32
  | 78 => 0x3F4B1934#32
  | 79 => 0xBF7E7A7A#32
  | 80 => 0x3F248DBB#32
  | 81 => 0x3D85F213#32
  | 82 => 0xBF3CBE35#32
  | 83 => 0x3F7FF067#32
  | 84 => 0xBF3504F3#32
  | 85 => 0x3CB2B521#32
  | 86 => 0x3F2CF37B#32
  | 87 => 0xBF7F73AF#32
  | 88 => 0x3F441B7D#32
  | 89 => 0xBDDEF599#32
  | 90 => 0xBF1BD7CA#32
  | 91 => 0x3F7D0543#32
  | 92 => 0xBF51B3F3#32
  | 93 => 0x3E47C5C2#32
  | 94 => 0x3F098C78#32
  | 95 => 0xBF78A9E0#32
  | 96 => 0x3F5DB3D7#32
  | 97 => 0xBE8F45C0#32
  | 98 => 0xBEEC6A50#32
  | 99 => 0x3F726A03#32
  | 100 => 0xBF6803CA#32
  | 101 => 0x3EB9917B#32
  | 102 => 0x3EC3EF15#32
  | 103 => 0xBF6A51DA#32
  | 104 => 0x3F708FB2#32
  | 105 => 0xBEE273AA#32
  | 106 => 0xBE99F61C#32
  | 107 => 0x3F60712A#32
  | 108 => 0xBF7746EA#32
  | 109 => 0x3F04CE53#32
  | 110 => 0x3E5DA259#32
  | 111 => 0xBF54DB31#32
  | 112 => 0x3F7C1C5C#32
  | 113 => 0xBF176012#32
  | 114 => 0xBE05A8A8#32
  | 115 => 0x3F47A682#32
  | 116 => 0xBF7F069E#32
  | 117 => 0x3F28CAE3#32
  | 118 => 0x3D32AA3E#32
  | 119 => 0xBF38ECD8#32
  | 120 => 0x3F800000#32
  | 121 => 0xBF38ECD8#32
  | 122 => 0x3D32AA3E#32
  | 123 => 0x3F28CAE3#32
  | 124 => 0xBF7F069E#32
  | 125 => 0x3F47A682#32
  | 126 => 0xBE05A8A8#32
  | 127 => 0xBF176012#32
  | _ => 0#32

noncomputable abbrev lit1t0_247 (i : Nat) : BitVec 32 := match i % 128 with
  | 0 => 0x3F7C1C5C#32
  | 1 => 0xBF54DB31#32
  | 2 => 0x3E5DA259#32
  | 3 => 0x3F04CE53#32
  | 4 => 0xBF7746EA#32
  | 5 => 0x3F60712A#32
  | 6 => 0xBE99F61C#32
  | 7 => 0xBEE273AA#32
  | 8 => 0x3F708FB2#32
  | 9 => 0xBF6A51DA#32
  | 10 => 0x3EC3EF15#32
  | 11 => 0x3EB9917B#32
  | 12 => 0xBF6803CA#32
  | 13 => 0x3F726A03#32
  | 14 => 0xBEEC6A50#32
  | 15 => 0xBE8F45C0#32
  | 16 => 0x3F5DB3D7#32
  | 17 => 0xBF78A9E0#32
  | 18 => 0x3F098C78#32
  | 19 => 0x3E47C5C2#32
  | 20 => 0xBF51B3F3#32
  | 21 => 0x3F7D0543#32
  | 22 => 0xBF1BD7CA#32
  | 23 => 0xBDDEF599#32
  | 24 => 0x3F441B7D#32
  | 25 => 0xBF7F73AF#32
  | 26 => 0x3F2CF37B#32
  | 27 => 0x3CB2B521#32
  | 28 => 0xBF3504F3#32
  | 29 => 0x3F7FF067#32
  | 30 => 0xBF3CBE35#32
  | 31 => 0x3D85F213#32
  | 32 => 0x3F248DBB#32
  | 33 => 0xBF7E7A7A#32
  | 34 => 0x3F4B1934#32
  | 35 => 0xBE1BC63C#32
  | 36 => 0xBF12D5E8#32
  | 37 => 0x3F7B14BE#32
  | 38 => 0xBF57E880#32
  | 39 => 0x3E7363EE#32
  | 40 => 0x3F000000#32
  | 41 => 0xBF75C5D4#32
  | 42 => 0x3F631324#32
  | 43 => 0xBEA493B7#32
  | 44 => 0xBED8616C#32
  | 45 => 0x3F6E9811#32
  | 46 => 0xBF6C835E#32
  | 47 => 0x3ECE34D0#32
  | 48 => 0x3EAF1D44#32
  | 49 => 0xBF659974#32
  | 50 => 0x3F7426CB#32
  | 51 => 0xBEF64429#32
  | 52 => 0xBE8483EE#32
  | 53 => 0x3F5ADB81#32
  | 54 => 0xBF79EE89#32
  | 55 => 0x3F0E39DA#32
  | 56 => 0x3E31D0D4#32
  | 57 => 0xBF4E7327#32
  | 58 => 0x3F7DCF55#32
  | 59 => 0xBF203C85#32
  | 60 => 0xBDB27EB6#32
  | 61 => 0x3F407893#32
  | 62 => 0xBF7FC1A0#32
  | 63 => 0x3F310700#32
  | 64 => 0x80000000#32
  | 65 => 0xBF2CF37B#32
  | 66 => 0x3F7F069E#32
  | 67 => 0xBF4B1934#32
  | 68 => 0x3E31D0D4#32
  | 69 => 0x3F098C78#32
  | 70 => 0xBF7746EA#32
  | 71 => 0x3F631324#32
  | 72 => 0xBEAF1D44#32
  | 73 => 0xBEC3EF15#32
  | 74 => 0x3F6803CA#32
  | 75 => 0xBF7426CB#32
  | 76 => 0x3F000000#32
  | 77 => 0x3E5DA259#32
  | 78 => 0xBF51B3F3#32
  | 79 => 0x3F7DCF55#32
  | 80 => 0xBF248DBB#32
  | 81 => 0xBD32AA3E#32
  | 82 => 0x3F3504F3#32
  | 83 => 0xBF7FC1A0#32
  | 84 => 0x3F441B7D#32
  | 85 => 0xBE05A8A8#32
  | 86 => 0xBF12D5E8#32
  | 87 => 0x3F79EE89#32
  | 88 => 0xBF5DB3D7#32
  | 89 => 0x3E99F61C#32
  | 90 => 0x3ED8616C#32
  | 91 => 0xBF6C835E#32
  | 92 => 0x3F708FB2#32
  | 93 => 0xBEEC6A50#32
  | 94 => 0xBE8483EE#32
  | 95 => 0x3F57E880#32
  | 96 => 0xBF7C1C5C#32
  | 97 => 0x3F1BD7CA#32
  | 98 => 0x3DB27EB6#32
  | 99 => 0xBF3CBE35#32
  | 100 => 0x3F800000#32
  | 101 => 0xBF3CBE35#32
  | 102 => 0x3DB27EB6#32
  | 103 => 0x3F1BD7CA#32
  | 104 => 0xBF7C1C5C#32
  | 105 => 0x3F57E880#32
  | 106 => 0xBE8483EE#32
  | 107 => 0xBEEC6A50#32
  | 108 => 0x3F708FB2#32
  | 109 => 0xBF6C835E#32
  | 110 => 0x3ED8616C#32
  | 111 => 0x3E99F61C#32
  | 112 => 0xBF5DB3D7#32
  | 113 => 0x3F79EE89#32
  | 114 => 0xBF12D5E8#32
  | 115 => 0xBE05A8A8#32
  | 116 => 0x3F441B7D#32
  | 117 => 0xBF7FC1A0#32
  | 118 => 0x3F3504F3#32
  | 119 => 0xBD32AA3E#32
  | 120 => 0xBF248DBB#32
  | 121 => 0x3F7DCF55#32
  | 122 => 0xBF51B3F3#32
  | 123 => 0x3E5DA259#32
  | 124 => 0x3F000000#32
  | 125 => 0xBF7426CB#32
  | 126 => 0x3F6803CA#32
  | 127 => 0xBEC3EF15#32
  | _ => 0#32

noncomputable abbrev lit1t0_248 (i : Nat) : BitVec 32 := match i % 128 with
  | 0 => 0xBEAF1D44#32
  | 1 => 0x3F631324#32
  | 2 => 0xBF7746EA#32
  | 3 => 0x3F098C78#32
  | 4 => 0x3E31D0D4#32
  | 5 => 0xBF4B1934#32
  | 6 => 0x3F7F069E#32
  | 7 => 0xBF2CF37B#32
  | 8 => 0xA50D3132#32
  | 9 => 0x3F2CF37B#32
  | 10 => 0xBF7F069E#32
  | 11 => 0x3F4B1934#32
  | 12 => 0xBE31D0D4#32
  | 13 => 0xBF098C78#32
  | 14 => 0x3F7746EA#32
  | 15 => 0xBF631324#32
  | 16 => 0x3EAF1D44#32
  | 17 => 0x3EC3EF15#32
  | 18 => 0xBF6803CA#32
  | 19 => 0x3F7426CB#32
  | 20 => 0xBF000000#32
  | 21 => 0xBE5DA259#32
  | 22 => 0x3F51B3F3#32
  | 23 => 0xBF7DCF55#32
  | 24 => 0x3F248DBB#32
  | 25 => 0x3D32AA3E#32
  | 26 => 0xBF3504F3#32
  | 27 => 0x3F7FC1A0#32
  | 28 => 0xBF441B7D#32
  | 29 => 0x3E05A8A8#32
  | 30 => 0x3F12D5E8#32
  | 31 => 0xBF79EE89#32
  | 32 => 0x3F5DB3D7#32
  | 33 => 0xBE99F61C#32
  | 34 => 0xBED8616C#32
  | 35 => 0x3F6C835E#32
  | 36 => 0xBF708FB2#32
  | 37 => 0x3EEC6A50#32
  | 38 => 0x3E8483EE#32
  | 39 => 0xBF57E880#32
  | 40 => 0x3F7C1C5C#32
  | 41 => 0xBF1BD7CA#32
  | 42 => 0xBDB27EB6#32
  | 43 => 0x3F3CBE35#32
  | 44 => 0xBF800000#32
  | 45 => 0x3F3CBE35#32
  | 46 => 0xBDB27EB6#32
  | 47 => 0xBF1BD7CA#32
  | 48 => 0x3F7C1C5C#32
  | 49 => 0xBF57E880#32
  | 50 => 0x3E8483EE#32
  | 51 => 0x3EEC6A50#32
  | 52 => 0xBF708FB2#32
  | 53 => 0x3F6C835E#32
  | 54 => 0xBED8616C#32
  | 55 => 0xBE99F61C#32
  | 56 => 0x3F5DB3D7#32
  | 57 => 0xBF79EE89#32
  | 58 => 0x3F12D5E8#32
  | 59 => 0x3E05A8A8#32
  | 60 => 0xBF441B7D#32
  | 61 => 0x3F7FC1A0#32
  | 62 => 0xBF3504F3#32
  | 63 => 0x3D32AA3E#32
  | 64 => 0x3F248DBB#32
  | 65 => 0xBF7DCF55#32
  | 66 => 0x3F51B3F3#32
  | 67 => 0xBE5DA259#32
  | 68 => 0xBF000000#32
  | 69 => 0x3F7426CB#32
  | 70 => 0xBF6803CA#32
  | 71 => 0x3EC3EF15#32
  | 72 => 0x3EAF1D44#32
  | 73 => 0xBF631324#32
  | 74 => 0x3F7746EA#32
  | 75 => 0xBF098C78#32
  | 76 => 0xBE31D0D4#32
  | 77 => 0x3F4B1934#32
  | 78 => 0xBF7F069E#32
  | 79 => 0x3F2CF37B#32
  | 80 => 0x80000000#32
  | 81 => 0xBF2CF37B#32
  | 82 => 0x3F7F069E#32
  | 83 => 0xBF4B1934#32
  | 84 => 0x3E31D0D4#32
  | 85 => 0x3F098C78#32
  | 86 => 0xBF7746EA#32
  | 87 => 0x3F631324#32
  | 88 => 0xBEAF1D44#32
  | 89 => 0xBEC3EF15#32
  | 90 => 0x3F6803CA#32
  | 91 => 0xBF7426CB#32
  | 92 => 0x3F000000#32
  | 93 => 0x3E5DA259#32
  | 94 => 0xBF51B3F3#32
  | 95 => 0x3F7DCF55#32
  | 96 => 0xBF248DBB#32
  | 97 => 0xBD32AA3E#32
  | 98 => 0x3F3504F3#32
  | 99 => 0xBF7FC1A0#32
  | 100 => 0x3F441B7D#32
  | 101 => 0xBE05A8A8#32
  | 102 => 0xBF12D5E8#32
  | 103 => 0x3F79EE89#32
  | 104 => 0xBF5DB3D7#32
  | 105 => 0x3E99F61C#32
  | 106 => 0x3ED8616C#32
  | 107 => 0xBF6C835E#32
  | 108 => 0x3F708FB2#32
  | 109 => 0xBEEC6A50#32
  | 110 => 0xBE8483EE#32
  | 111 => 0x3F57E880#32
  | 112 => 0xBF7C1C5C#32
  | 113 => 0x3F1BD7CA#32
  | 114 => 0x3DB27EB6#32
  | 115 => 0xBF3CBE35#32
  | 116 => 0x3F800000#32
  | 117 => 0xBF3CBE35#32
  | 118 => 0x3DB27EB6#32
  | 119 => 0x3F1BD7CA#32
  | 120 => 0xBF7C1C5C#32
  | 121 => 0x3F57E880#32
  | 122 => 0xBE8483EE#32
  | 123 => 0xBEEC6A50#32
  | 124 => 0x3F708FB2#32
  | 125 => 0xBF6C835E#32
  | 126 => 0x3ED8616C#32
  | 127 => 0x3E99F61C#32
  | _ => 0#32

noncomputable abbrev lit1t0_249 (i : Nat) : BitVec 32 := match i % 128 with
  | 0 => 0xBF5DB3D7#32
  | 1 => 0x3F79EE89#32
  | 2 => 0xBF12D5E8#32
  | 3 => 0xBE05A8A8#32
  | 4 => 0x3F441B7D#32
  | 5 => 0xBF7FC1A0#32
  | 6 => 0x3F3504F3#32
  | 7 => 0xBD32AA3E#32
  | 8 => 0xBF248DBB#32
  | 9 => 0x3F7DCF55#32
  | 10 => 0xBF51B3F3#32
  | 11 => 0x3E5DA259#32
  | 12 => 0x3F000000#32
  | 13 => 0xBF7426CB#32
  | 14 => 0x3F6803CA#32
  | 15 => 0xBEC3EF15#32
  | 16 => 0xBEAF1D44#32
  | 17 => 0x3F631324#32
  | 18 => 0xBF7746EA#32
  | 19 => 0x3F098C78#32
  | 20 => 0x3E31D0D4#32
  | 21 => 0xBF4B1934#32
  | 22 => 0x3F7F069E#32
  | 23 => 0xBF2CF37B#32
  | 24 => 0xA50D3132#32
  | 25 => 0x3F2CF37B#32
  | 26 => 0xBF7F069E#32
  | 27 => 0x3F4B1934#32
  | 28 => 0xBE31D0D4#32
  | 29 => 0xBF098C78#32
  | 30 => 0x3F7746EA#32
  | 31 => 0xBF631324#32
  | 32 => 0x3EAF1D44#32
  | 33 => 0x3EC3EF15#32
  | 34 => 0xBF6803CA#32
  | 35 => 0x3F7426CB#32
  | 36 => 0xBF000000#32
  | 37 => 0xBE5DA259#32
  | 38 => 0x3F51B3F3#32
  | 39 => 0xBF7DCF55#32
  | 40 => 0x3F248DBB#32
  | 41 => 0x3D32AA3E#32
  | 42 => 0xBF3504F3#32
  | 43 => 0x3F7FC1A0#32
  | 44 => 0xBF441B7D#32
  | 45 => 0x3E05A8A8#32
  | 46 => 0x3F12D5E8#32
  | 47 => 0xBF79EE89#32
  | 48 => 0x3F5DB3D7#32
  | 49 => 0xBE99F61C#32
  | 50 => 0xBED8616C#32
  | 51 => 0x3F6C835E#32
  | 52 => 0xBF708FB2#32
  | 53 => 0x3EEC6A50#32
  | 54 => 0x3E8483EE#32
  | 55 => 0xBF57E880#32
  | 56 => 0x3F7C1C5C#32
  | 57 => 0xBF1BD7CA#32
  | 58 => 0xBDB27EB6#32
  | 59 => 0x3F3CBE35#32
  | 60 => 0xBF800000#32
  | 61 => 0x3F3CBE35#32
  | 62 => 0xBDB27EB6#32
  | 63 => 0xBF1BD7CA#32
  | 64 => 0x3F7C1C5C#32
  | 65 => 0xBF57E880#32
  | 66 => 0x3E8483EE#32
  | 67 => 0x3EEC6A50#32
  | 68 => 0xBF708FB2#32
  | 69 => 0x3F6C835E#32
  | 70 => 0xBED8616C#32
  | 71 => 0xBE99F61C#32
  | 72 => 0x3F5DB3D7#32
  | 73 => 0xBF79EE89#32
  | 74 => 0x3F12D5E8#32
  | 75 => 0x3E05A8A8#32
  | 76 => 0xBF441B7D#32
  | 77 => 0x3F7FC1A0#32
  | 78 => 0xBF3504F3#32
  | 79 => 0x3D32AA3E#32
  | 80 => 0x3F248DBB#32
  | 81 => 0xBF7DCF55#32
  | 82 => 0x3F51B3F3#32
  | 83 => 0xBE5DA259#32
  | 84 => 0xBF000000#32
  | 85 => 0x3F7426CB#32
  | 86 => 0xBF6803CA#32
  | 87 => 0x3EC3EF15#32
  | 88 => 0x3EAF1D44#32
  | 89 => 0xBF631324#32
  | 90 => 0x3F7746EA#32
  | 91 => 0xBF098C78#32
  | 92 => 0xBE31D0D4#32
  | 93 => 0x3F4B1934#32
  | 94 => 0xBF7F069E#32
  | 95 => 0x3F2CF37B#32
  | 96 => 0x80000000#32
  | 97 => 0xBF28CAE3#32
  | 98 => 0x3F7DCF55#32
  | 99 => 0xBF54DB31#32
  | 100 => 0x3E8483EE#32
  | 101 => 0x3EE273AA#32
  | 102 => 0xBF6C835E#32
  | 103 => 0x3F726A03#32
  | 104 => 0xBF000000#32
  | 105 => 0xBE47C5C2#32
  | 106 => 0x3F4B1934#32
  | 107 => 0xBF7F73AF#32
  | 108 => 0x3F3504F3#32
  | 109 => 0xBD85F213#32
  | 110 => 0xBF1BD7CA#32
  | 111 => 0x3F7B14BE#32
  | 112 => 0xBF5DB3D7#32
  | 113 => 0x3EA493B7#32
  | 114 => 0x3EC3EF15#32
  | 115 => 0xBF659974#32
  | 116 => 0x3F7746EA#32
  | 117 => 0xBF0E39DA#32
  | 118 => 0xBE05A8A8#32
  | 119 => 0x3F407893#32
  | 120 => 0xBF800000#32
  | 121 => 0x3F407893#32
  | 122 => 0xBE05A8A8#32
  | 123 => 0xBF0E39DA#32
  | 124 => 0x3F7746EA#32
  | 125 => 0xBF659974#32
  | 126 => 0x3EC3EF15#32
  | 127 => 0x3EA493B7#32
  | _ => 0#32

noncomputable abbrev lit1t0_250 (i : Nat) : BitVec 32 := match i % 128 with
  | 0 => 0xBF5DB3D7#32
  | 1 => 0x3F7B14BE#32
  | 2 => 0xBF1BD7CA#32
  | 3 => 0xBD85F213#32
  | 4 => 0x3F3504F3#32
  | 5 => 0xBF7F73AF#32
  | 6 => 0x3F4B1934#32
  | 7 => 0xBE47C5C2#32
  | 8 => 0xBF000000#32
  | 9 => 0x3F726A03#32
  | 10 => 0xBF6C835E#32
  | 11 => 0x3EE273AA#32
  | 12 => 0x3E8483EE#32
  | 13 => 0xBF54DB31#32
  | 14 => 0x3F7DCF55#32
  | 15 => 0xBF28CAE3#32
  | 16 => 0xA50D3132#32
  | 17 => 0x3F28CAE3#32
  | 18 => 0xBF7DCF55#32
  | 19 => 0x3F54DB31#32
  | 20 => 0xBE8483EE#32
  | 21 => 0xBEE273AA#32
  | 22 => 0x3F6C835E#32
  | 23 => 0xBF726A03#32
  | 24 => 0x3F000000#32
  | 25 => 0x3E47C5C2#32
  | 26 => 0xBF4B1934#32
  | 27 => 0x3F7F73AF#32
  | 28 => 0xBF3504F3#32
  | 29 => 0x3D85F213#32
  | 30 => 0x3F1BD7CA#32
  | 31 => 0xBF7B14BE#32
  | 32 => 0x3F5DB3D7#32
  | 33 => 0xBEA493B7#32
  | 34 => 0xBEC3EF15#32
  | 35 => 0x3F659974#32
  | 36 => 0xBF7746EA#32
  | 37 => 0x3F0E39DA#32
  | 38 => 0x3E05A8A8#32
  | 39 => 0xBF407893#32
  | 40 => 0x3F800000#32
  | 41 => 0xBF407893#32
  | 42 => 0x3E05A8A8#32
  | 43 => 0x3F0E39DA#32
  | 44 => 0xBF7746EA#32
  | 45 => 0x3F659974#32
  | 46 => 0xBEC3EF15#32
  | 47 => 0xBEA493B7#32
  | 48 => 0x3F5DB3D7#32
  | 49 => 0xBF7B14BE#32
  | 50 => 0x3F1BD7CA#32
  | 51 => 0x3D85F213#32
  | 52 => 0xBF3504F3#32
  | 53 => 0x3F7F73AF#32
  | 54 => 0xBF4B1934#32
  | 55 => 0x3E47C5C2#32
  | 56 => 0x3F000000#32
  | 57 => 0xBF726A03#32
  | 58 => 0x3F6C835E#32
  | 59 => 0xBEE273AA#32
  | 60 => 0xBE8483EE#32
  | 61 => 0x3F54DB31#32
  | 62 => 0xBF7DCF55#32
  | 63 => 0x3F28CAE3#32
  | 64 => 0x80000000#32
  | 65 => 0xBF28CAE3#32
  | 66 => 0x3F7DCF55#32
  | 67 => 0xBF54DB31#32
  | 68 => 0x3E8483EE#32
  | 69 => 0x3EE273AA#32
  | 70 => 0xBF6C835E#32
  | 71 => 0x3F726A03#32
  | 72 => 0xBF000000#32
  | 73 => 0xBE47C5C2#32
  | 74 => 0x3F4B1934#32
  | 75 => 0xBF7F73AF#32
  | 76 => 0x3F3504F3#32
  | 77 => 0xBD85F213#32
  | 78 => 0xBF1BD7CA#32
  | 79 => 0x3F7B14BE#32
  | 80 => 0xBF5DB3D7#32
  | 81 => 0x3EA493B7#32
  | 82 => 0x3EC3EF15#32
  | 83 => 0xBF659974#32
  | 84 => 0x3F7746EA#32
  | 85 => 0xBF0E39DA#32
  | 86 => 0xBE05A8A8#32
  | 87 => 0x3F407893#32
  | 88 => 0xBF800000#32
  | 89 => 0x3F407893#32
  | 90 => 0xBE05A8A8#32
  | 91 => 0xBF0E39DA#32
  | 92 => 0x3F7746EA#32
  | 93 => 0xBF659974#32
  | 94 => 0x3EC3EF15#32
  | 95 => 0x3EA493B7#32
  | 96 => 0xBF5DB3D7#32
  | 97 => 0x3F7B14BE#32
  | 98 => 0xBF1BD7CA#32
  | 99 => 0xBD85F213#32
  | 100 => 0x3F3504F3#32
  | 101 => 0xBF7F73AF#32
  | 102 => 0x3F4B1934#32
  | 103 => 0xBE47C5C2#32
  | 104 => 0xBF000000#32
  | 105 => 0x3F726A03#32
  | 106 => 0xBF6C835E#32
  | 107 => 0x3EE273AA#32
  | 108 => 0x3E8483EE#32
  | 109 => 0xBF54DB31#32
  | 110 => 0x3F7DCF55#32
  | 111 => 0xBF28CAE3#32
  | 112 => 0xA50D3132#32
  | 113 => 0x3F28CAE3#32
  | 114 => 0xBF7DCF55#32
  | 115 => 0x3F54DB31#32
  | 116 => 0xBE8483EE#32
  | 117 => 0xBEE273AA#32
  | 118 => 0x3F6C835E#32
  | 119 => 0xBF726A03#32
  | 120 => 0x3F000000#32
  | 121 => 0x3E47C5C2#32
  | 122 => 0xBF4B1934#32
  | 123 => 0x3F7F73AF#32
  | 124 => 0xBF3504F3#32
  | 125 => 0x3D85F213#32
  | 126 => 0x3F1BD7CA#32
  | 127 => 0xBF7B14BE#32
  | _ => 0#32

noncomputable abbrev lit1t0_251 (i : Nat) : BitVec 32 := match i % 128 with
  | 0 => 0x3F5DB3D7#32
  | 1 => 0xBEA493B7#32
  | 2 => 0xBEC3EF15#32
  | 3 => 0x3F659974#32
  | 4 => 0xBF7746EA#32
  | 5 => 0x3F0E39DA#32
  | 6 => 0x3E05A8A8#32
  | 7 => 0xBF407893#32
  | 8 => 0x3F800000#32
  | 9 => 0xBF407893#32
  | 10 => 0x3E05A8A8#32
  | 11 => 0x3F0E39DA#32
  | 12 => 0xBF7746EA#32
  | 13 => 0x3F659974#32
  | 14 => 0xBEC3EF15#32
  | 15 => 0xBEA493B7#32
  | 16 => 0x3F5DB3D7#32
  | 17 => 0xBF7B14BE#32
  | 18 => 0x3F1BD7CA#32
  | 19 => 0x3D85F213#32
  | 20 => 0xBF3504F3#32
  | 21 => 0x3F7F73AF#32
  | 22 => 0xBF4B1934#32
  | 23 => 0x3E47C5C2#32
  | 24 => 0x3F000000#32
  | 25 => 0xBF726A03#32
  | 26 => 0x3F6C835E#32
  | 27 => 0xBEE273AA#32
  | 28 => 0xBE8483EE#32
  | 29 => 0x3F54DB31#32
  | 30 => 0xBF7DCF55#32
  | 31 => 0x3F28CAE3#32
  | 32 => 0x80000000#32
  | 33 => 0xBF28CAE3#32
  | 34 => 0x3F7DCF55#32
  | 35 => 0xBF54DB31#32
  | 36 => 0x3E8483EE#32
  | 37 => 0x3EE273AA#32
  | 38 => 0xBF6C835E#32
  | 39 => 0x3F726A03#32
  | 40 => 0xBF000000#32
  | 41 => 0xBE47C5C2#32
  | 42 => 0x3F4B1934#32
  | 43 => 0xBF7F73AF#32
  | 44 => 0x3F3504F3#32
  | 45 => 0xBD85F213#32
  | 46 => 0xBF1BD7CA#32
  | 47 => 0x3F7B14BE#32
  | 48 => 0xBF5DB3D7#32
  | 49 => 0x3EA493B7#32
  | 50 => 0x3EC3EF15#32
  | 51 => 0xBF659974#32
  | 52 => 0x3F7746EA#32
  | 53 => 0xBF0E39DA#32
  | 54 => 0xBE05A8A8#32
  | 55 => 0x3F407893#32
  | 56 => 0xBF800000#32
  | 57 => 0x3F407893#32
  | 58 => 0xBE05A8A8#32
  | 59 => 0xBF0E39DA#32
  | 60 => 0x3F7746EA#32
  | 61 => 0xBF659974#32
  | 62 => 0x3EC3EF15#32
  | 63 => 0x3EA493B7#32
  | 64 => 0xBF5DB3D7#32
  | 65 => 0x3F7B14BE#32
  | 66 => 0xBF1BD7CA#32
  | 67 => 0xBD85F213#32
  | 68 => 0x3F3504F3#32
  | 69 => 0xBF7F73AF#32
  | 70 => 0x3F4B1934#32
  | 71 => 0xBE47C5C2#32
  | 72 => 0xBF000000#32
  | 73 => 0x3F726A03#32
  | 74 => 0xBF6C835E#32
  | 75 => 0x3EE273AA#32
  | 76 => 0x3E8483EE#32
  | 77 => 0xBF54DB31#32
  | 78 => 0x3F7DCF55#32
  | 79 => 0xBF28CAE3#32
  | 80 => 0xA50D3132#32
  | 81 => 0x3F28CAE3#32
  | 82 => 0xBF7DCF55#32
  | 83 => 0x3F54DB31#32
  | 84 => 0xBE8483EE#32
  | 85 => 0xBEE273AA#32
  | 86 => 0x3F6C835E#32
  | 87 => 0xBF726A03#32
  | 88 => 0x3F000000#32
  | 89 => 0x3E47C5C2#32
  | 90 => 0xBF4B1934#32
  | 91 => 0x3F7F73AF#32
  | 92 => 0xBF3504F3#32
  | 93 => 0x3D85F213#32
  | 94 => 0x3F1BD7CA#32
  | 95 => 0xBF7B14BE#32
  | 96 => 0x3F5DB3D7#32
  | 97 => 0xBEA493B7#32
  | 98 => 0xBEC3EF15#32
  | 99 => 0x3F659974#32
  | 100 => 0xBF7746EA#32
  | 101 => 0x3F0E39DA#32
  | 102 => 0x3E05A8A8#32
  | 103 => 0xBF407893#32
  | 104 => 0x3F800000#32
  | 105 => 0xBF407893#32
  | 106 => 0x3E05A8A8#32
  | 107 => 0x3F0E39DA#32
  | 108 => 0xBF7746EA#32
  | 109 => 0x3F659974#32
  | 110 => 0xBEC3EF15#32
  | 111 => 0xBEA493B7#32
  | 112 => 0x3F5DB3D7#32
  | 113 => 0xBF7B14BE#32
  | 114 => 0x3F1BD7CA#32
  | 115 => 0x3D85F213#32
  | 116 => 0xBF3504F3#32
  | 117 => 0x3F7F73AF#32
  | 118 => 0xBF4B1934#32
  | 119 => 0x3E47C5C2#32
  | 120 => 0x3F000000#32
  | 121 => 0xBF726A03#32
  | 122 => 0x3F6C835E#32
  | 123 => 0xBEE273AA#32
  | 124 => 0xBE8483EE#32
  | 125 => 0x3F54DB31#32
  | 126 => 0xBF7DCF55#32
  | 127 => 0x3F28CAE3#32
  | _ => 0#32

noncomputable abbrev lit1t0_252 (i : Nat) : BitVec 32 := match i % 128 with
  | 0 => 0x80000000#32
  | 1 => 0xBF248DBB#32
  | 2 => 0x3F7C1C5C#32
  | 3 => 0xBF5DB3D7#32
  | 4 => 0x3EAF1D44#32
  | 5 => 0x3EAF1D44#32
  | 6 => 0xBF5DB3D7#32
  | 7 => 0x3F7C1C5C#32
  | 8 => 0xBF248DBB#32
  | 9 => 0xA50D3132#32
  | 10 => 0x3F248DBB#32
  | 11 => 0xBF7C1C5C#32
  | 12 => 0x3F5DB3D7#32
  | 13 => 0xBEAF1D44#32
  | 14 => 0xBEAF1D44#32
  | 15 => 0x3F5DB3D7#32
  | 16 => 0xBF7C1C5C#32
  | 17 => 0x3F248DBB#32
  | 18 => 0x80000000#32
  | 19 => 0xBF248DBB#32
  | 20 => 0x3F7C1C5C#32
  | 21 => 0xBF5DB3D7#32
  | 22 => 0x3EAF1D44#32
  | 23 => 0x3EAF1D44#32
  | 24 => 0xBF5DB3D7#32
  | 25 => 0x3F7C1C5C#32
  | 26 => 0xBF248DBB#32
  | 27 => 0xA50D3132#32
  | 28 => 0x3F248DBB#32
  | 29 => 0xBF7C1C5C#32
  | 30 => 0x3F5DB3D7#32
  | 31 => 0xBEAF1D44#32
  | 32 => 0xBEAF1D44#32
  | 33 => 0x3F5DB3D7#32
  | 34 => 0xBF7C1C5C#32
  | 35 => 0x3F248DBB#32
  | 36 => 0x80000000#32
  | 37 => 0xBF248DBB#32
  | 38 => 0x3F7C1C5C#32
  | 39 => 0xBF5DB3D7#32
  | 40 => 0x3EAF1D44#32
  | 41 => 0x3EAF1D44#32
  | 42 => 0xBF5DB3D7#32
  | 43 => 0x3F7C1C5C#32
  | 44 => 0xBF248DBB#32
  | 45 => 0xA50D3132#32
  | 46 => 0x3F248DBB#32
  | 47 => 0xBF7C1C5C#32
  | 48 => 0x3F5DB3D7#32
  | 49 => 0xBEAF1D44#32
  | 50 => 0xBEAF1D44#32
  | 51 => 0x3F5DB3D7#32
  | 52 => 0xBF7C1C5C#32
  | 53 => 0x3F248DBB#32
  | 54 => 0x80000000#32
  | 55 => 0xBF248DBB#32
  | 56 => 0x3F7C1C5C#32
  | 57 => 0xBF5DB3D7#32
  | 58 => 0x3EAF1D44#32
  | 59 => 0x3EAF1D44#32
  | 60 => 0xBF5DB3D7#32
  | 61 => 0x3F7C1C5C#32
  | 62 => 0xBF248DBB#32
  | 63 => 0xA50D3132#32
  | 64 => 0x3F248DBB#32
  | 65 => 0xBF7C1C5C#32
  | 66 => 0x3F5DB3D7#32
  | 67 => 0xBEAF1D44#32
  | 68 => 0xBEAF1D44#32
  | 69 => 0x3F5DB3D7#32
  | 70 => 0xBF7C1C5C#32
  | 71 => 0x3F248DBB#32
  | 72 => 0x80000000#32
  | 73 => 0xBF248DBB#32
  | 74 => 0x3F7C1C5C#32
  | 75 => 0xBF5DB3D7#32
  | 76 => 0x3EAF1D44#32
  | 77 => 0x3EAF1D44#32
  | 78 => 0xBF5DB3D7#32
  | 79 => 0x3F7C1C5C#32
  | 80 => 0xBF248DBB#32
  | 81 => 0xA50D3132#32
  | 82 => 0x3F248DBB#32
  | 83 => 0xBF7C1C5C#32
  | 84 => 0x3F5DB3D7#32
  | 85 => 0xBEAF1D44#32
  | 86 => 0xBEAF1D44#32
  | 87 => 0x3F5DB3D7#32
  | 88 => 0xBF7C1C5C#32
  | 89 => 0x3F248DBB#32
  | 90 => 0x80000000#32
  | 91 => 0xBF248DBB#32
  | 92 => 0x3F7C1C5C#32
  | 93 => 0xBF5DB3D7#32
  | 94 => 0x3EAF1D44#32
  | 95 => 0x3EAF1D44#32
  | 96 => 0xBF5DB3D7#32
  | 97 => 0x3F7C1C5C#32
  | 98 => 0xBF248DBB#32
  | 99 => 0xA50D3132#32
  | 100 => 0x3F248DBB#32
  | 101 => 0xBF7C1C5C#32
  | 102 => 0x3F5DB3D7#32
  | 103 => 0xBEAF1D44#32
  | 104 => 0xBEAF1D44#32
  | 105 => 0x3F5DB3D7#32
  | 106 => 0xBF7C1C5C#32
  | 107 => 0x3F248DBB#32
  | 108 => 0x80000000#32
  | 109 => 0xBF248DBB#32
  | 110 => 0x3F7C1C5C#32
  | 111 => 0xBF5DB3D7#32
  | 112 => 0x3EAF1D44#32
  | 113 => 0x3EAF1D44#32
  | 114 => 0xBF5DB3D7#32
  | 115 => 0x3F7C1C5C#32
  | 116 => 0xBF248DBB#32
  | 117 => 0xA50D3132#32
  | 118 => 0x3F248DBB#32
  | 119 => 0xBF7C1C5C#32
  | 120 => 0x3F5DB3D7#32
  | 121 => 0xBEAF1D44#32
  | 122 => 0xBEAF1D44#32
  | 123 => 0x3F5DB3D7#32
  | 124 => 0xBF7C1C5C#32
  | 125 => 0x3F248DBB#32
  | 126 => 0x80000000#32
  | 127 => 0xBF248DBB#32
  | _ => 0#32

noncomputable abbrev lit1t0_253 (i : Nat) : BitVec 32 := match i % 128 with
  | 0 => 0x3F7C1C5C#32
  | 1 => 0xBF5DB3D7#32
  | 2 => 0x3EAF1D44#32
  | 3 => 0x3EAF1D44#32
  | 4 => 0xBF5DB3D7#32
  | 5 => 0x3F7C1C5C#32
  | 6 => 0xBF248DBB#32
  | 7 => 0xA50D3132#32
  | 8 => 0x3F248DBB#32
  | 9 => 0xBF7C1C5C#32
  | 10 => 0x3F5DB3D7#32
  | 11 => 0xBEAF1D44#32
  | 12 => 0xBEAF1D44#32
  | 13 => 0x3F5DB3D7#32
  | 14 => 0xBF7C1C5C#32
  | 15 => 0x3F248DBB#32
  | 16 => 0x80000000#32
  | 17 => 0xBF248DBB#32
  | 18 => 0x3F7C1C5C#32
  | 19 => 0xBF5DB3D7#32
  | 20 => 0x3EAF1D44#32
  | 21 => 0x3EAF1D44#32
  | 22 => 0xBF5DB3D7#32
  | 23 => 0x3F7C1C5C#32
  | 24 => 0xBF248DBB#32
  | 25 => 0xA50D3132#32
  | 26 => 0x3F248DBB#32
  | 27 => 0xBF7C1C5C#32
  | 28 => 0x3F5DB3D7#32
  | 29 => 0xBEAF1D44#32
  | 30 => 0xBEAF1D44#32
  | 31 => 0x3F5DB3D7#32
  | 32 => 0xBF7C1C5C#32
  | 33 => 0x3F248DBB#32
  | 34 => 0x80000000#32
  | 35 => 0xBF248DBB#32
  | 36 => 0x3F7C1C5C#32
  | 37 => 0xBF5DB3D7#32
  | 38 => 0x3EAF1D44#32
  | 39 => 0x3EAF1D44#32
  | 40 => 0xBF5DB3D7#32
  | 41 => 0x3F7C1C5C#32
  | 42 => 0xBF248DBB#32
  | 43 => 0xA50D3132#32
  | 44 => 0x3F248DBB#32
  | 45 => 0xBF7C1C5C#32
  | 46 => 0x3F5DB3D7#32
  | 47 => 0xBEAF1D44#32
  | 48 => 0xBEAF1D44#32
  | 49 => 0x3F5DB3D7#32
  | 50 => 0xBF7C1C5C#32
  | 51 => 0x3F248DBB#32
  | 52 => 0x80000000#32
  | 53 => 0xBF248DBB#32
  | 54 => 0x3F7C1C5C#32
  | 55 => 0xBF5DB3D7#32
  | 56 => 0x3EAF1D44#32
  | 57 => 0x3EAF1D44#32
  | 58 => 0xBF5DB3D7#32
  | 59 => 0x3F7C1C5C#32
  | 60 => 0xBF248DBB#32
  | 61 => 0xA50D3132#32
  | 62 => 0x3F248DBB#32
  | 63 => 0xBF7C1C5C#32
  | 64 => 0x3F5DB3D7#32
  | 65 => 0xBEAF1D44#32
  | 66 => 0xBEAF1D44#32
  | 67 => 0x3F5DB3D7#32
  | 68 => 0xBF7C1C5C#32
  | 69 => 0x3F248DBB#32
  | 70 => 0x80000000#32
  | 71 => 0xBF248DBB#32
  | 72 => 0x3F7C1C5C#32
  | 73 => 0xBF5DB3D7#32
  | 74 => 0x3EAF1D44#32
  | 75 => 0x3EAF1D44#32
  | 76 => 0xBF5DB3D7#32
  | 77 => 0x3F7C1C5C#32
  | 78 => 0xBF248DBB#32
  | 79 => 0xA50D3132#32
  | 80 => 0x3F248DBB#32
  | 81 => 0xBF7C1C5C#32
  | 82 => 0x3F5DB3D7#32
  | 83 => 0xBEAF1D44#32
  | 84 => 0xBEAF1D44#32
  | 85 => 0x3F5DB3D7#32
  | 86 => 0xBF7C1C5C#32
  | 87 => 0x3F248DBB#32
  | 88 => 0x80000000#32
  | 89 => 0xBF248DBB#32
  | 90 => 0x3F7C1C5C#32
  | 91 => 0xBF5DB3D7#32
  | 92 => 0x3EAF1D44#32
  | 93 => 0x3EAF1D44#32
  | 94 => 0xBF5DB3D7#32
  | 95 => 0x3F7C1C5C#32
  | 96 => 0xBF248DBB#32
  | 97 => 0xA50D3132#32
  | 98 => 0x3F248DBB#32
  | 99 => 0xBF7C1C5C#32
  | 100 => 0x3F5DB3D7#32
  | 101 => 0xBEAF1D44#32
  | 102 => 0xBEAF1D44#32
  | 103 => 0x3F5DB3D7#32
  | 104 => 0xBF7C1C5C#32
  | 105 => 0x3F248DBB#32
  | 106 => 0x80000000#32
  | 107 => 0xBF248DBB#32
  | 108 => 0x3F7C1C5C#32
  | 109 => 0xBF5DB3D7#32
  | 110 => 0x3EAF1D44#32
  | 111 => 0x3EAF1D44#32
  | 112 => 0xBF5DB3D7#32
  | 113 => 0x3F7C1C5C#32
  | 114 => 0xBF248DBB#32
  | 115 => 0xA50D3132#32
  | 116 => 0x3F248DBB#32
  | 117 => 0xBF7C1C5C#32
  | 118 => 0x3F5DB3D7#32
  | 119 => 0xBEAF1D44#32
  | 120 => 0xBEAF1D44#32
  | 121 => 0x3F5DB3D7#32
  | 122 => 0xBF7C1C5C#32
  | 123 => 0x3F248DBB#32
  | 124 => 0x80000000#32
  | 125 => 0xBF248DBB#32
  | 126 => 0x3F7C1C5C#32
  | 127 => 0xBF5DB3D7#32
  | _ => 0#32

noncomputable abbrev lit1t0_254 (i : Nat) : BitVec 32 := match i % 128 with
  | 0 => 0x3EAF1D44#32
  | 1 => 0x3EAF1D44#32
  | 2 => 0xBF5DB3D7#32
  | 3 => 0x3F7C1C5C#32
  | 4 => 0xBF248DBB#32
  | 5 => 0xA50D3132#32
  | 6 => 0x3F248DBB#32
  | 7 => 0xBF7C1C5C#32
  | 8 => 0x3F5DB3D7#32
  | 9 => 0xBEAF1D44#32
  | 10 => 0xBEAF1D44#32
  | 11 => 0x3F5DB3D7#32
  | 12 => 0xBF7C1C5C#32
  | 13 => 0x3F248DBB#32
  | 14 => 0x80000000#32
  | 15 => 0xBF248DBB#32
  | 16 => 0x3F7C1C5C#32
  | 17 => 0xBF5DB3D7#32
  | 18 => 0x3EAF1D44#32
  | 19 => 0x3EAF1D44#32
  | 20 => 0xBF5DB3D7#32
  | 21 => 0x3F7C1C5C#32
  | 22 => 0xBF248DBB#32
  | 23 => 0xA50D3132#32
  | 24 => 0x3F248DBB#32
  | 25 => 0xBF7C1C5C#32
  | 26 => 0x3F5DB3D7#32
  | 27 => 0xBEAF1D44#32
  | 28 => 0xBEAF1D44#32
  | 29 => 0x3F5DB3D7#32
  | 30 => 0xBF7C1C5C#32
  | 31 => 0x3F248DBB#32
  | 32 => 0x80000000#32
  | 33 => 0xBF203C85#32
  | 34 => 0x3F79EE89#32
  | 35 => 0xBF659974#32
  | 36 => 0x3ED8616C#32
  | 37 => 0x3E7363EE#32
  | 38 => 0xBF4B1934#32
  | 39 => 0x3F7FF067#32
  | 40 => 0xBF441B7D#32
  | 41 => 0x3E47C5C2#32
  | 42 => 0x3EEC6A50#32
  | 43 => 0xBF6A51DA#32
  | 44 => 0x3F7746EA#32
  | 45 => 0xBF176012#32
  | 46 => 0xBD32AA3E#32
  | 47 => 0x3F28CAE3#32
  | 48 => 0xBF7C1C5C#32
  | 49 => 0x3F60712A#32
  | 50 => 0xBEC3EF15#32
  | 51 => 0xBE8F45C0#32
  | 52 => 0x3F51B3F3#32
  | 53 => 0xBF7F73AF#32
  | 54 => 0x3F3CBE35#32
  | 55 => 0xBE1BC63C#32
  | 56 => 0xBF000000#32
  | 57 => 0x3F6E9811#32
  | 58 => 0xBF7426CB#32
  | 59 => 0x3F0E39DA#32
  | 60 => 0x3DB27EB6#32
  | 61 => 0xBF310700#32
  | 62 => 0x3F7DCF55#32
  | 63 => 0xBF5ADB81#32
  | 64 => 0x3EAF1D44#32
  | 65 => 0x3EA493B7#32
  | 66 => 0xBF57E880#32
  | 67 => 0x3F7E7A7A#32
  | 68 => 0xBF3504F3#32
  | 69 => 0x3DDEF599#32
  | 70 => 0x3F098C78#32
  | 71 => 0xBF726A03#32
  | 72 => 0x3F708FB2#32
  | 73 => 0xBF04CE53#32
  | 74 => 0xBE05A8A8#32
  | 75 => 0x3F38ECD8#32
  | 76 => 0xBF7F069E#32
  | 77 => 0x3F54DB31#32
  | 78 => 0xBE99F61C#32
  | 79 => 0xBEB9917B#32
  | 80 => 0x3F5DB3D7#32
  | 81 => 0xBF7D0543#32
  | 82 => 0x3F2CF37B#32
  | 83 => 0xBD85F213#32
  | 84 => 0xBF12D5E8#32
  | 85 => 0x3F75C5D4#32
  | 86 => 0xBF6C835E#32
  | 87 => 0x3EF64429#32
  | 88 => 0x3E31D0D4#32
  | 89 => 0xBF407893#32
  | 90 => 0x3F7FC1A0#32
  | 91 => 0xBF4E7327#32
  | 92 => 0x3E8483EE#32
  | 93 => 0x3ECE34D0#32
  | 94 => 0xBF631324#32
  | 95 => 0x3F7B14BE#32
  | 96 => 0xBF248DBB#32
  | 97 => 0x3CB2B521#32
  | 98 => 0x3F1BD7CA#32
  | 99 => 0xBF78A9E0#32
  | 100 => 0x3F6803CA#32
  | 101 => 0xBEE273AA#32
  | 102 => 0xBE5DA259#32
  | 103 => 0x3F47A682#32
  | 104 => 0xBF800000#32
  | 105 => 0x3F47A682#32
  | 106 => 0xBE5DA259#32
  | 107 => 0xBEE273AA#32
  | 108 => 0x3F6803CA#32
  | 109 => 0xBF78A9E0#32
  | 110 => 0x3F1BD7CA#32
  | 111 => 0x3CB2B521#32
  | 112 => 0xBF248DBB#32
  | 113 => 0x3F7B14BE#32
  | 114 => 0xBF631324#32
  | 115 => 0x3ECE34D0#32
  | 116 => 0x3E8483EE#32
  | 117 => 0xBF4E7327#32
  | 118 => 0x3F7FC1A0#32
  | 119 => 0xBF407893#32
  | 120 => 0x3E31D0D4#32
  | 121 => 0x3EF64429#32
  | 122 => 0xBF6C835E#32
  | 123 => 0x3F75C5D4#32
  | 124 => 0xBF12D5E8#32
  | 125 => 0xBD85F213#32
  | 126 => 0x3F2CF37B#32
  | 127 => 0xBF7D0543#32
  | _ => 0#32

noncomputable abbrev lit1t0_255 (i : Nat) : BitVec 32 := match i % 128 with
  | 0 => 0x3F5DB3D7#32
  | 1 => 0xBEB9917B#32
  | 2 => 0xBE99F61C#32
  | 3 => 0x3F54DB31#32
  | 4 => 0xBF7F069E#32
  | 5 => 0x3F38ECD8#32
  | 6 => 0xBE05A8A8#32
  | 7 => 0xBF04CE53#32
  | 8 => 0x3F708FB2#32
  | 9 => 0xBF726A03#32
  | 10 => 0x3F098C78#32
  | 11 => 0x3DDEF599#32
  | 12 => 0xBF3504F3#32
  | 13 => 0x3F7E7A7A#32
  | 14 => 0xBF57E880#32
  | 15 => 0x3EA493B7#32
  | 16 => 0x3EAF1D44#32
  | 17 => 0xBF5ADB81#32
  | 18 => 0x3F7DCF55#32
  | 19 => 0xBF310700#32
  | 20 => 0x3DB27EB6#32
  | 21 => 0x3F0E39DA#32
  | 22 => 0xBF7426CB#32
  | 23 => 0x3F6E9811#32
  | 24 => 0xBF000000#32
  | 25 => 0xBE1BC63C#32
  | 26 => 0x3F3CBE35#32
  | 27 => 0xBF7F73AF#32
  | 28 => 0x3F51B3F3#32
  | 29 => 0xBE8F45C0#32
  | 30 => 0xBEC3EF15#32
  | 31 => 0x3F60712A#32
  | 32 => 0xBF7C1C5C#32
  | 33 => 0x3F28CAE3#32
  | 34 => 0xBD32AA3E#32
  | 35 => 0xBF176012#32
  | 36 => 0x3F7746EA#32
  | 37 => 0xBF6A51DA#32
  | 38 => 0x3EEC6A50#32
  | 39 => 0x3E47C5C2#32
  | 40 => 0xBF441B7D#32
  | 41 => 0x3F7FF067#32
  | 42 => 0xBF4B1934#32
  | 43 => 0x3E7363EE#32
  | 44 => 0x3ED8616C#32
  | 45 => 0xBF659974#32
  | 46 => 0x3F79EE89#32
  | 47 => 0xBF203C85#32
  | 48 => 0xA50D3132#32
  | 49 => 0x3F203C85#32
  | 50 => 0xBF79EE89#32
  | 51 => 0x3F659974#32
  | 52 => 0xBED8616C#32
  | 53 => 0xBE7363EE#32
  | 54 => 0x3F4B1934#32
  | 55 => 0xBF7FF067#32
  | 56 => 0x3F441B7D#32
  | 57 => 0xBE47C5C2#32
  | 58 => 0xBEEC6A50#32
  | 59 => 0x3F6A51DA#32
  | 60 => 0xBF7746EA#32
  | 61 => 0x3F176012#32
  | 62 => 0x3D32AA3E#32
  | 63 => 0xBF28CAE3#32
  | 64 => 0x3F7C1C5C#32
  | 65 => 0xBF60712A#32
  | 66 => 0x3EC3EF15#32
  | 67 => 0x3E8F45C0#32
  | 68 => 0xBF51B3F3#32
  | 69 => 0x3F7F73AF#32
  | 70 => 0xBF3CBE35#32
  | 71 => 0x3E1BC63C#32
  | 72 => 0x3F000000#32
  | 73 => 0xBF6E9811#32
  | 74 => 0x3F7426CB#32
  | 75 => 0xBF0E39DA#32
  | 76 => 0xBDB27EB6#32
  | 77 => 0x3F310700#32
  | 78 => 0xBF7DCF55#32
  | 79 => 0x3F5ADB81#32
  | 80 => 0xBEAF1D44#32
  | 81 => 0xBEA493B7#32
  | 82 => 0x3F57E880#32
  | 83 => 0xBF7E7A7A#32
  | 84 => 0x3F3504F3#32
  | 85 => 0xBDDEF599#32
  | 86 => 0xBF098C78#32
  | 87 => 0x3F726A03#32
  | 88 => 0xBF708FB2#32
  | 89 => 0x3F04CE53#32
  | 90 => 0x3E05A8A8#32
  | 91 => 0xBF38ECD8#32
  | 92 => 0x3F7F069E#32
  | 93 => 0xBF54DB31#32
  | 94 => 0x3E99F61C#32
  | 95 => 0x3EB9917B#32
  | 96 => 0xBF5DB3D7#32
  | 97 => 0x3F7D0543#32
  | 98 => 0xBF2CF37B#32
  | 99 => 0x3D85F213#32
  | 100 => 0x3F12D5E8#32
  | 101 => 0xBF75C5D4#32
  | 102 => 0x3F6C835E#32
  | 103 => 0xBEF64429#32
  | 104 => 0xBE31D0D4#32
  | 105 => 0x3F407893#32
  | 106 => 0xBF7FC1A0#32
  | 107 => 0x3F4E7327#32
  | 108 => 0xBE8483EE#32
  | 109 => 0xBECE34D0#32
  | 110 => 0x3F631324#32
  | 111 => 0xBF7B14BE#32
  | 112 => 0x3F248DBB#32
  | 113 => 0xBCB2B521#32
  | 114 => 0xBF1BD7CA#32
  | 115 => 0x3F78A9E0#32
  | 116 => 0xBF6803CA#32
  | 117 => 0x3EE273AA#32
  | 118 => 0x3E5DA259#32
  | 119 => 0xBF47A682#32
  | 120 => 0x3F800000#32
  | 121 => 0xBF47A682#32
  | 122 => 0x3E5DA259#32
  | 123 => 0x3EE273AA#32
  | 124 => 0xBF6803CA#32
  | 125 => 0x3F78A9E0#32
  | 126 => 0xBF1BD7CA#32
  | 127 => 0xBCB2B521#32
  | _ => 0#32

noncomputable abbrev lit1t0_256 (i : Nat) : BitVec 32 := match i % 128 with
  | 0 => 0x3F248DBB#32
  | 1 => 0xBF7B14BE#32
  | 2 => 0x3F631324#32
  | 3 => 0xBECE34D0#32
  | 4 => 0xBE8483EE#32
  | 5 => 0x3F4E7327#32
  | 6 => 0xBF7FC1A0#32
  | 7 => 0x3F407893#32
  | 8 => 0xBE31D0D4#32
  | 9 => 0xBEF64429#32
  | 10 => 0x3F6C835E#32
  | 11 => 0xBF75C5D4#32
  | 12 => 0x3F12D5E8#32
  | 13 => 0x3D85F213#32
  | 14 => 0xBF2CF37B#32
  | 15 => 0x3F7D0543#32
  | 16 => 0xBF5DB3D7#32
  | 17 => 0x3EB9917B#32
  | 18 => 0x3E99F61C#32
  | 19 => 0xBF54DB31#32
  | 20 => 0x3F7F069E#32
  | 21 => 0xBF38ECD8#32
  | 22 => 0x3E05A8A8#32
  | 23 => 0x3F04CE53#32
  | 24 => 0xBF708FB2#32
  | 25 => 0x3F726A03#32
  | 26 => 0xBF098C78#32
  | 27 => 0xBDDEF599#32
  | 28 => 0x3F3504F3#32
  | 29 => 0xBF7E7A7A#32
  | 30 => 0x3F57E880#32
  | 31 => 0xBEA493B7#32
  | 32 => 0xBEAF1D44#32
  | 33 => 0x3F5ADB81#32
  | 34 => 0xBF7DCF55#32
  | 35 => 0x3F310700#32
  | 36 => 0xBDB27EB6#32
  | 37 => 0xBF0E39DA#32
  | 38 => 0x3F7426CB#32
  | 39 => 0xBF6E9811#32
  | 40 => 0x3F000000#32
  | 41 => 0x3E1BC63C#32
  | 42 => 0xBF3CBE35#32
  | 43 => 0x3F7F73AF#32
  | 44 => 0xBF51B3F3#32
  | 45 => 0x3E8F45C0#32
  | 46 => 0x3EC3EF15#32
  | 47 => 0xBF60712A#32
  | 48 => 0x3F7C1C5C#32
  | 49 => 0xBF28CAE3#32
  | 50 => 0x3D32AA3E#32
  | 51 => 0x3F176012#32
  | 52 => 0xBF7746EA#32
  | 53 => 0x3F6A51DA#32
  | 54 => 0xBEEC6A50#32
  | 55 => 0xBE47C5C2#32
  | 56 => 0x3F441B7D#32
  | 57 => 0xBF7FF067#32
  | 58 => 0x3F4B1934#32
  | 59 => 0xBE7363EE#32
  | 60 => 0xBED8616C#32
  | 61 => 0x3F659974#32
  | 62 => 0xBF79EE89#32
  | 63 => 0x3F203C85#32
  | 64 => 0x80000000#32
  | 65 => 0xBF1BD7CA#32
  | 66 => 0x3F7746EA#32
  | 67 => 0xBF6C835E#32
  | 68 => 0x3F000000#32
  | 69 => 0x3E05A8A8#32
  | 70 => 0xBF3504F3#32
  | 71 => 0x3F7DCF55#32
  | 72 => 0xBF5DB3D7#32
  | 73 => 0x3EC3EF15#32
  | 74 => 0x3E8483EE#32
  | 75 => 0xBF4B1934#32
  | 76 => 0x3F800000#32
  | 77 => 0xBF4B1934#32
  | 78 => 0x3E8483EE#32
  | 79 => 0x3EC3EF15#32
  | 80 => 0xBF5DB3D7#32
  | 81 => 0x3F7DCF55#32
  | 82 => 0xBF3504F3#32
  | 83 => 0x3E05A8A8#32
  | 84 => 0x3F000000#32
  | 85 => 0xBF6C835E#32
  | 86 => 0x3F7746EA#32
  | 87 => 0xBF1BD7CA#32
  | 88 => 0xA50D3132#32
  | 89 => 0x3F1BD7CA#32
  | 90 => 0xBF7746EA#32
  | 91 => 0x3F6C835E#32
  | 92 => 0xBF000000#32
  | 93 => 0xBE05A8A8#32
  | 94 => 0x3F3504F3#32
  | 95 => 0xBF7DCF55#32
  | 96 => 0x3F5DB3D7#32
  | 97 => 0xBEC3EF15#32
  | 98 => 0xBE8483EE#32
  | 99 => 0x3F4B1934#32
  | 100 => 0xBF800000#32
  | 101 => 0x3F4B1934#32
  | 102 => 0xBE8483EE#32
  | 103 => 0xBEC3EF15#32
  | 104 => 0x3F5DB3D7#32
  | 105 => 0xBF7DCF55#32
  | 106 => 0x3F3504F3#32
  | 107 => 0xBE05A8A8#32
  | 108 => 0xBF000000#32
  | 109 => 0x3F6C835E#32
  | 110 => 0xBF7746EA#32
  | 111 => 0x3F1BD7CA#32
  | 112 => 0x80000000#32
  | 113 => 0xBF1BD7CA#32
  | 114 => 0x3F7746EA#32
  | 115 => 0xBF6C835E#32
  | 116 => 0x3F000000#32
  | 117 => 0x3E05A8A8#32
  | 118 => 0xBF3504F3#32
  | 119 => 0x3F7DCF55#32
  | 120 => 0xBF5DB3D7#32
  | 121 => 0x3EC3EF15#32
  | 122 => 0x3E8483EE#32
  | 123 => 0xBF4B1934#32
  | 124 => 0x3F800000#32
  | 125 => 0xBF4B1934#32
  | 126 => 0x3E8483EE#32
  | 127 => 0x3EC3EF15#32
  | _ => 0#32

noncomputable abbrev lit1t0_257 (i : Nat) : BitVec 32 := match i % 128 with
  | 0 => 0xBF5DB3D7#32
  | 1 => 0x3F7DCF55#32
  | 2 => 0xBF3504F3#32
  | 3 => 0x3E05A8A8#32
  | 4 => 0x3F000000#32
  | 5 => 0xBF6C835E#32
  | 6 => 0x3F7746EA#32
  | 7 => 0xBF1BD7CA#32
  | 8 => 0xA50D3132#32
  | 9 => 0x3F1BD7CA#32
  | 10 => 0xBF7746EA#32
  | 11 => 0x3F6C835E#32
  | 12 => 0xBF000000#32
  | 13 => 0xBE05A8A8#32
  | 14 => 0x3F3504F3#32
  | 15 => 0xBF7DCF55#32
  | 16 => 0x3F5DB3D7#32
  | 17 => 0xBEC3EF15#32
  | 18 => 0xBE8483EE#32
  | 19 => 0x3F4B1934#32
  | 20 => 0xBF800000#32
  | 21 => 0x3F4B1934#32
  | 22 => 0xBE8483EE#32
  | 23 => 0xBEC3EF15#32
  | 24 => 0x3F5DB3D7#32
  | 25 => 0xBF7DCF55#32
  | 26 => 0x3F3504F3#32
  | 27 => 0xBE05A8A8#32
  | 28 => 0xBF000000#32
  | 29 => 0x3F6C835E#32
  | 30 => 0xBF7746EA#32
  | 31 => 0x3F1BD7CA#32
  | 32 => 0x80000000#32
  | 33 => 0xBF1BD7CA#32
  | 34 => 0x3F7746EA#32
  | 35 => 0xBF6C835E#32
  | 36 => 0x3F000000#32
  | 37 => 0x3E05A8A8#32
  | 38 => 0xBF3504F3#32
  | 39 => 0x3F7DCF55#32
  | 40 => 0xBF5DB3D7#32
  | 41 => 0x3EC3EF15#32
  | 42 => 0x3E8483EE#32
  | 43 => 0xBF4B1934#32
  | 44 => 0x3F800000#32
  | 45 => 0xBF4B1934#32
  | 46 => 0x3E8483EE#32
  | 47 => 0x3EC3EF15#32
  | 48 => 0xBF5DB3D7#32
  | 49 => 0x3F7DCF55#32
  | 50 => 0xBF3504F3#32
  | 51 => 0x3E05A8A8#32
  | 52 => 0x3F000000#32
  | 53 => 0xBF6C835E#32
  | 54 => 0x3F7746EA#32
  | 55 => 0xBF1BD7CA#32
  | 56 => 0xA50D3132#32
  | 57 => 0x3F1BD7CA#32
  | 58 => 0xBF7746EA#32
  | 59 => 0x3F6C835E#32
  | 60 => 0xBF000000#32
  | 61 => 0xBE05A8A8#32
  | 62 => 0x3F3504F3#32
  | 63 => 0xBF7DCF55#32
  | 64 => 0x3F5DB3D7#32
  | 65 => 0xBEC3EF15#32
  | 66 => 0xBE8483EE#32
  | 67 => 0x3F4B1934#32
  | 68 => 0xBF800000#32
  | 69 => 0x3F4B1934#32
  | 70 => 0xBE8483EE#32
  | 71 => 0xBEC3EF15#32
  | 72 => 0x3F5DB3D7#32
  | 73 => 0xBF7DCF55#32
  | 74 => 0x3F3504F3#32
  | 75 => 0xBE05A8A8#32
  | 76 => 0xBF000000#32
  | 77 => 0x3F6C835E#32
  | 78 => 0xBF7746EA#32
  | 79 => 0x3F1BD7CA#32
  | 80 => 0x80000000#32
  | 81 => 0xBF1BD7CA#32
  | 82 => 0x3F7746EA#32
  | 83 => 0xBF6C835E#32
  | 84 => 0x3F000000#32
  | 85 => 0x3E05A8A8#32
  | 86 => 0xBF3504F3#32
  | 87 => 0x3F7DCF55#32
  | 88 => 0xBF5DB3D7#32
  | 89 => 0x3EC3EF15#32
  | 90 => 0x3E8483EE#32
  | 91 => 0xBF4B1934#32
  | 92 => 0x3F800000#32
  | 93 => 0xBF4B1934#32
  | 94 => 0x3E8483EE#32
  | 95 => 0x3EC3EF15#32
  | 96 => 0xBF5DB3D7#32
  | 97 => 0x3F7DCF55#32
  | 98 => 0xBF3504F3#32
  | 99 => 0x3E05A8A8#32
  | 100 => 0x3F000000#32
  | 101 => 0xBF6C835E#32
  | 102 => 0x3F7746EA#32
  | 103 => 0xBF1BD7CA#32
  | 104 => 0xA50D3132#32
  | 105 => 0x3F1BD7CA#32
  | 106 => 0xBF7746EA#32
  | 107 => 0x3F6C835E#32
  | 108 => 0xBF000000#32
  | 109 => 0xBE05A8A8#32
  | 110 => 0x3F3504F3#32
  | 111 => 0xBF7DCF55#32
  | 112 => 0x3F5DB3D7#32
  | 113 => 0xBEC3EF15#32
  | 114 => 0xBE8483EE#32
  | 115 => 0x3F4B1934#32
  | 116 => 0xBF800000#32
  | 117 => 0x3F4B1934#32
  | 118 => 0xBE8483EE#32
  | 119 => 0xBEC3EF15#32
  | 120 => 0x3F5DB3D7#32
  | 121 => 0xBF7DCF55#32
  | 122 => 0x3F3504F3#32
  | 123 => 0xBE05A8A8#32
  | 124 => 0xBF000000#32
  | 125 => 0x3F6C835E#32
  | 126 => 0xBF7746EA#32
  | 127 => 0x3F1BD7CA#32
  | _ => 0#32

noncomputable abbrev lit1t0_258 (i : Nat) : BitVec 32 := match i % 128 with
  | 0 => 0x80000000#32
  | 1 => 0xBF1BD7CA#32
  | 2 => 0x3F7746EA#32
  | 3 => 0xBF6C835E#32
  | 4 => 0x3F000000#32
  | 5 => 0x3E05A8A8#32
  | 6 => 0xBF3504F3#32
  | 7 => 0x3F7DCF55#32
  | 8 => 0xBF5DB3D7#32
  | 9 => 0x3EC3EF15#32
  | 10 => 0x3E8483EE#32
  | 11 => 0xBF4B1934#32
  | 12 => 0x3F800000#32
  | 13 => 0xBF4B1934#32
  | 14 => 0x3E8483EE#32
  | 15 => 0x3EC3EF15#32
  | 16 => 0xBF5DB3D7#32
  | 17 => 0x3F7DCF55#32
  | 18 => 0xBF3504F3#32
  | 19 => 0x3E05A8A8#32
  | 20 => 0x3F000000#32
  | 21 => 0xBF6C835E#32
  | 22 => 0x3F7746EA#32
  | 23 => 0xBF1BD7CA#32
  | 24 => 0xA50D3132#32
  | 25 => 0x3F1BD7CA#32
  | 26 => 0xBF7746EA#32
  | 27 => 0x3F6C835E#32
  | 28 => 0xBF000000#32
  | 29 => 0xBE05A8A8#32
  | 30 => 0x3F3504F3#32
  | 31 => 0xBF7DCF55#32
  | 32 => 0x3F5DB3D7#32
  | 33 => 0xBEC3EF15#32
  | 34 => 0xBE8483EE#32
  | 35 => 0x3F4B1934#32
  | 36 => 0xBF800000#32
  | 37 => 0x3F4B1934#32
  | 38 => 0xBE8483EE#32
  | 39 => 0xBEC3EF15#32
  | 40 => 0x3F5DB3D7#32
  | 41 => 0xBF7DCF55#32
  | 42 => 0x3F3504F3#32
  | 43 => 0xBE05A8A8#32
  | 44 => 0xBF000000#32
  | 45 => 0x3F6C835E#32
  | 46 => 0xBF7746EA#32
  | 47 => 0x3F1BD7CA#32
  | 48 => 0x80000000#32
  | 49 => 0xBF1BD7CA#32
  | 50 => 0x3F7746EA#32
  | 51 => 0xBF6C835E#32
  | 52 => 0x3F000000#32
  | 53 => 0x3E05A8A8#32
  | 54 => 0xBF3504F3#32
  | 55 => 0x3F7DCF55#32
  | 56 => 0xBF5DB3D7#32
  | 57 => 0x3EC3EF15#32
  | 58 => 0x3E8483EE#32
  | 59 => 0xBF4B1934#32
  | 60 => 0x3F800000#32
  | 61 => 0xBF4B1934#32
  | 62 => 0x3E8483EE#32
  | 63 => 0x3EC3EF15#32
  | 64 => 0xBF5DB3D7#32
  | 65 => 0x3F7DCF55#32
  | 66 => 0xBF3504F3#32
  | 67 => 0x3E05A8A8#32
  | 68 => 0x3F000000#32
  | 69 => 0xBF6C835E#32
  | 70 => 0x3F7746EA#32
  | 71 => 0xBF1BD7CA#32
  | 72 => 0xA50D3132#32
  | 73 => 0x3F1BD7CA#32
  | 74 => 0xBF7746EA#32
  | 75 => 0x3F6C835E#32
  | 76 => 0xBF000000#32
  | 77 => 0xBE05A8A8#32
  | 78 => 0x3F3504F3#32
  | 79 => 0xBF7DCF55#32
  | 80 => 0x3F5DB3D7#32
  | 81 => 0xBEC3EF15#32
  | 82 => 0xBE8483EE#32
  | 83 => 0x3F4B1934#32
  | 84 => 0xBF800000#32
  | 85 => 0x3F4B1934#32
  | 86 => 0xBE8483EE#32
  | 87 => 0xBEC3EF15#32
  | 88 => 0x3F5DB3D7#32
  | 89 => 0xBF7DCF55#32
  | 90 => 0x3F3504F3#32
  | 91 => 0xBE05A8A8#32
  | 92 => 0xBF000000#32
  | 93 => 0x3F6C835E#32
  | 94 => 0xBF7746EA#32
  | 95 => 0x3F1BD7CA#32
  | 96 => 0x80000000#32
  | 97 => 0xBF176012#32
  | 98 => 0x3F7426CB#32
  | 99 => 0xBF726A03#32
  | 100 => 0x3F12D5E8#32
  | 101 => 0x3CB2B521#32
  | 102 => 0xBF1BD7CA#32
  | 103 => 0x3F75C5D4#32
  | 104 => 0xBF708FB2#32
  | 105 => 0x3F0E39DA#32
  | 106 => 0x3D32AA3E#32
  | 107 => 0xBF203C85#32
  | 108 => 0x3F7746EA#32
  | 109 => 0xBF6E9811#32
  | 110 => 0x3F098C78#32
  | 111 => 0x3D85F213#32
  | 112 => 0xBF248DBB#32
  | 113 => 0x3F78A9E0#32
  | 114 => 0xBF6C835E#32
  | 115 => 0x3F04CE53#32
  | 116 => 0x3DB27EB6#32
  | 117 => 0xBF28CAE3#32
  | 118 => 0x3F79EE89#32
  | 119 => 0xBF6A51DA#32
  | 120 => 0x3F000000#32
  | 121 => 0x3DDEF599#32
  | 122 => 0xBF2CF37B#32
  | 123 => 0x3F7B14BE#32
  | 124 => 0xBF6803CA#32
  | 125 => 0x3EF64429#32
  | 126 => 0x3E05A8A8#32
  | 127 => 0xBF310700#32
  | _ => 0#32

noncomputable abbrev lit1t0_259 (i : Nat) : BitVec 32 := match i % 128 with
  | 0 => 0x3F7C1C5C#32
  | 1 => 0xBF659974#32
  | 2 => 0x3EEC6A50#32
  | 3 => 0x3E1BC63C#32
  | 4 => 0xBF3504F3#32
  | 5 => 0x3F7D0543#32
  | 6 => 0xBF631324#32
  | 7 => 0x3EE273AA#32
  | 8 => 0x3E31D0D4#32
  | 9 => 0xBF38ECD8#32
  | 10 => 0x3F7DCF55#32
  | 11 => 0xBF60712A#32
  | 12 => 0x3ED8616C#32
  | 13 => 0x3E47C5C2#32
  | 14 => 0xBF3CBE35#32
  | 15 => 0x3F7E7A7A#32
  | 16 => 0xBF5DB3D7#32
  | 17 => 0x3ECE34D0#32
  | 18 => 0x3E5DA259#32
  | 19 => 0xBF407893#32
  | 20 => 0x3F7F069E#32
  | 21 => 0xBF5ADB81#32
  | 22 => 0x3EC3EF15#32
  | 23 => 0x3E7363EE#32
  | 24 => 0xBF441B7D#32
  | 25 => 0x3F7F73AF#32
  | 26 => 0xBF57E880#32
  | 27 => 0x3EB9917B#32
  | 28 => 0x3E8483EE#32
  | 29 => 0xBF47A682#32
  | 30 => 0x3F7FC1A0#32
  | 31 => 0xBF54DB31#32
  | 32 => 0x3EAF1D44#32
  | 33 => 0x3E8F45C0#32
  | 34 => 0xBF4B1934#32
  | 35 => 0x3F7FF067#32
  | 36 => 0xBF51B3F3#32
  | 37 => 0x3EA493B7#32
  | 38 => 0x3E99F61C#32
  | 39 => 0xBF4E7327#32
  | 40 => 0x3F800000#32
  | 41 => 0xBF4E7327#32
  | 42 => 0x3E99F61C#32
  | 43 => 0x3EA493B7#32
  | 44 => 0xBF51B3F3#32
  | 45 => 0x3F7FF067#32
  | 46 => 0xBF4B1934#32
  | 47 => 0x3E8F45C0#32
  | 48 => 0x3EAF1D44#32
  | 49 => 0xBF54DB31#32
  | 50 => 0x3F7FC1A0#32
  | 51 => 0xBF47A682#32
  | 52 => 0x3E8483EE#32
  | 53 => 0x3EB9917B#32
  | 54 => 0xBF57E880#32
  | 55 => 0x3F7F73AF#32
  | 56 => 0xBF441B7D#32
  | 57 => 0x3E7363EE#32
  | 58 => 0x3EC3EF15#32
  | 59 => 0xBF5ADB81#32
  | 60 => 0x3F7F069E#32
  | 61 => 0xBF407893#32
  | 62 => 0x3E5DA259#32
  | 63 => 0x3ECE34D0#32
  | 64 => 0xBF5DB3D7#32
  | 65 => 0x3F7E7A7A#32
  | 66 => 0xBF3CBE35#32
  | 67 => 0x3E47C5C2#32
  | 68 => 0x3ED8616C#32
  | 69 => 0xBF60712A#32
  | 70 => 0x3F7DCF55#32
  | 71 => 0xBF38ECD8#32
  | 72 => 0x3E31D0D4#32
  | 73 => 0x3EE273AA#32
  | 74 => 0xBF631324#32
  | 75 => 0x3F7D0543#32
  | 76 => 0xBF3504F3#32
  | 77 => 0x3E1BC63C#32
  | 78 => 0x3EEC6A50#32
  | 79 => 0xBF659974#32
  | 80 => 0x3F7C1C5C#32
  | 81 => 0xBF310700#32
  | 82 => 0x3E05A8A8#32
  | 83 => 0x3EF64429#32
  | 84 => 0xBF6803CA#32
  | 85 => 0x3F7B14BE#32
  | 86 => 0xBF2CF37B#32
  | 87 => 0x3DDEF599#32
  | 88 => 0x3F000000#32
  | 89 => 0xBF6A51DA#32
  | 90 => 0x3F79EE89#32
  | 91 => 0xBF28CAE3#32
  | 92 => 0x3DB27EB6#32
  | 93 => 0x3F04CE53#32
  | 94 => 0xBF6C835E#32
  | 95 => 0x3F78A9E0#32
  | 96 => 0xBF248DBB#32
  | 97 => 0x3D85F213#32
  | 98 => 0x3F098C78#32
  | 99 => 0xBF6E9811#32
  | 100 => 0x3F7746EA#32
  | 101 => 0xBF203C85#32
  | 102 => 0x3D32AA3E#32
  | 103 => 0x3F0E39DA#32
  | 104 => 0xBF708FB2#32
  | 105 => 0x3F75C5D4#32
  | 106 => 0xBF1BD7CA#32
  | 107 => 0x3CB2B521#32
  | 108 => 0x3F12D5E8#32
  | 109 => 0xBF726A03#32
  | 110 => 0x3F7426CB#32
  | 111 => 0xBF176012#32
  | 112 => 0xA50D3132#32
  | 113 => 0x3F176012#32
  | 114 => 0xBF7426CB#32
  | 115 => 0x3F726A03#32
  | 116 => 0xBF12D5E8#32
  | 117 => 0xBCB2B521#32
  | 118 => 0x3F1BD7CA#32
  | 119 => 0xBF75C5D4#32
  | 120 => 0x3F708FB2#32
  | 121 => 0xBF0E39DA#32
  | 122 => 0xBD32AA3E#32
  | 123 => 0x3F203C85#32
  | 124 => 0xBF7746EA#32
  | 125 => 0x3F6E9811#32
  | 126 => 0xBF098C78#32
  | 127 => 0xBD85F213#32
  | _ => 0#32

noncomputable abbrev lit1t0_260 (i : Nat) : BitVec 32 := match i % 128 with
  | 0 => 0x3F248DBB#32
  | 1 => 0xBF78A9E0#32
  | 2 => 0x3F6C835E#32
  | 3 => 0xBF04CE53#32
  | 4 => 0xBDB27EB6#32
  | 5 => 0x3F28CAE3#32
  | 6 => 0xBF79EE89#32
  | 7 => 0x3F6A51DA#32
  | 8 => 0xBF000000#32
  | 9 => 0xBDDEF599#32
  | 10 => 0x3F2CF37B#32
  | 11 => 0xBF7B14BE#32
  | 12 => 0x3F6803CA#32
  | 13 => 0xBEF64429#32
  | 14 => 0xBE05A8A8#32
  | 15 => 0x3F310700#32
  | 16 => 0xBF7C1C5C#32
  | 17 => 0x3F659974#32
  | 18 => 0xBEEC6A50#32
  | 19 => 0xBE1BC63C#32
  | 20 => 0x3F3504F3#32
  | 21 => 0xBF7D0543#32
  | 22 => 0x3F631324#32
  | 23 => 0xBEE273AA#32
  | 24 => 0xBE31D0D4#32
  | 25 => 0x3F38ECD8#32
  | 26 => 0xBF7DCF55#32
  | 27 => 0x3F60712A#32
  | 28 => 0xBED8616C#32
  | 29 => 0xBE47C5C2#32
  | 30 => 0x3F3CBE35#32
  | 31 => 0xBF7E7A7A#32
  | 32 => 0x3F5DB3D7#32
  | 33 => 0xBECE34D0#32
  | 34 => 0xBE5DA259#32
  | 35 => 0x3F407893#32
  | 36 => 0xBF7F069E#32
  | 37 => 0x3F5ADB81#32
  | 38 => 0xBEC3EF15#32
  | 39 => 0xBE7363EE#32
  | 40 => 0x3F441B7D#32
  | 41 => 0xBF7F73AF#32
  | 42 => 0x3F57E880#32
  | 43 => 0xBEB9917B#32
  | 44 => 0xBE8483EE#32
  | 45 => 0x3F47A682#32
  | 46 => 0xBF7FC1A0#32
  | 47 => 0x3F54DB31#32
  | 48 => 0xBEAF1D44#32
  | 49 => 0xBE8F45C0#32
  | 50 => 0x3F4B1934#32
  | 51 => 0xBF7FF067#32
  | 52 => 0x3F51B3F3#32
  | 53 => 0xBEA493B7#32
  | 54 => 0xBE99F61C#32
  | 55 => 0x3F4E7327#32
  | 56 => 0xBF800000#32
  | 57 => 0x3F4E7327#32
  | 58 => 0xBE99F61C#32
  | 59 => 0xBEA493B7#32
  | 60 => 0x3F51B3F3#32
  | 61 => 0xBF7FF067#32
  | 62 => 0x3F4B1934#32
  | 63 => 0xBE8F45C0#32
  | 64 => 0xBEAF1D44#32
  | 65 => 0x3F54DB31#32
  | 66 => 0xBF7FC1A0#32
  | 67 => 0x3F47A682#32
  | 68 => 0xBE8483EE#32
  | 69 => 0xBEB9917B#32
  | 70 => 0x3F57E880#32
  | 71 => 0xBF7F73AF#32
  | 72 => 0x3F441B7D#32
  | 73 => 0xBE7363EE#32
  | 74 => 0xBEC3EF15#32
  | 75 => 0x3F5ADB81#32
  | 76 => 0xBF7F069E#32
  | 77 => 0x3F407893#32
  | 78 => 0xBE5DA259#32
  | 79 => 0xBECE34D0#32
  | 80 => 0x3F5DB3D7#32
  | 81 => 0xBF7E7A7A#32
  | 82 => 0x3F3CBE35#32
  | 83 => 0xBE47C5C2#32
  | 84 => 0xBED8616C#32
  | 85 => 0x3F60712A#32
  | 86 => 0xBF7DCF55#32
  | 87 => 0x3F38ECD8#32
  | 88 => 0xBE31D0D4#32
  | 89 => 0xBEE273AA#32
  | 90 => 0x3F631324#32
  | 91 => 0xBF7D0543#32
  | 92 => 0x3F3504F3#32
  | 93 => 0xBE1BC63C#32
  | 94 => 0xBEEC6A50#32
  | 95 => 0x3F659974#32
  | 96 => 0xBF7C1C5C#32
  | 97 => 0x3F310700#32
  | 98 => 0xBE05A8A8#32
  | 99 => 0xBEF64429#32
  | 100 => 0x3F6803CA#32
  | 101 => 0xBF7B14BE#32
  | 102 => 0x3F2CF37B#32
  | 103 => 0xBDDEF599#32
  | 104 => 0xBF000000#32
  | 105 => 0x3F6A51DA#32
  | 106 => 0xBF79EE89#32
  | 107 => 0x3F28CAE3#32
  | 108 => 0xBDB27EB6#32
  | 109 => 0xBF04CE53#32
  | 110 => 0x3F6C835E#32
  | 111 => 0xBF78A9E0#32
  | 112 => 0x3F248DBB#32
  | 113 => 0xBD85F213#32
  | 114 => 0xBF098C78#32
  | 115 => 0x3F6E9811#32
  | 116 => 0xBF7746EA#32
  | 117 => 0x3F203C85#32
  | 118 => 0xBD32AA3E#32
  | 119 => 0xBF0E39DA#32
  | 120 => 0x3F708FB2#32
  | 121 => 0xBF75C5D4#32
  | 122 => 0x3F1BD7CA#32
  | 123 => 0xBCB2B521#32
  | 124 => 0xBF12D5E8#32
  | 125 => 0x3F726A03#32
  | 126 => 0xBF7426CB#32
  | 127 => 0x3F176012#32
  | _ => 0#32

noncomputable abbrev lit1t0_261 (i : Nat) : BitVec 32 := match i % 128 with
  | 0 => 0x80000000#32
  | 1 => 0xBF12D5E8#32
  | 2 => 0x3F708FB2#32
  | 3 => 0xBF7746EA#32
  | 4 => 0x3F248DBB#32
  | 5 => 0xBDB27EB6#32
  | 6 => 0xBF000000#32
  | 7 => 0x3F6803CA#32
  | 8 => 0xBF7C1C5C#32
  | 9 => 0x3F3504F3#32
  | 10 => 0xBE31D0D4#32
  | 11 => 0xBED8616C#32
  | 12 => 0x3F5DB3D7#32
  | 13 => 0xBF7F069E#32
  | 14 => 0x3F441B7D#32
  | 15 => 0xBE8483EE#32
  | 16 => 0xBEAF1D44#32
  | 17 => 0x3F51B3F3#32
  | 18 => 0xBF800000#32
  | 19 => 0x3F51B3F3#32
  | 20 => 0xBEAF1D44#32
  | 21 => 0xBE8483EE#32
  | 22 => 0x3F441B7D#32
  | 23 => 0xBF7F069E#32
  | 24 => 0x3F5DB3D7#32
  | 25 => 0xBED8616C#32
  | 26 => 0xBE31D0D4#32
  | 27 => 0x3F3504F3#32
  | 28 => 0xBF7C1C5C#32
  | 29 => 0x3F6803CA#32
  | 30 => 0xBF000000#32
  | 31 => 0xBDB27EB6#32
  | 32 => 0x3F248DBB#32
  | 33 => 0xBF7746EA#32
  | 34 => 0x3F708FB2#32
  | 35 => 0xBF12D5E8#32
  | 36 => 0xA50D3132#32
  | 37 => 0x3F12D5E8#32
  | 38 => 0xBF708FB2#32
  | 39 => 0x3F7746EA#32
  | 40 => 0xBF248DBB#32
  | 41 => 0x3DB27EB6#32
  | 42 => 0x3F000000#32
  | 43 => 0xBF6803CA#32
  | 44 => 0x3F7C1C5C#32
  | 45 => 0xBF3504F3#32
  | 46 => 0x3E31D0D4#32
  | 47 => 0x3ED8616C#32
  | 48 => 0xBF5DB3D7#32
  | 49 => 0x3F7F069E#32
  | 50 => 0xBF441B7D#32
  | 51 => 0x3E8483EE#32
  | 52 => 0x3EAF1D44#32
  | 53 => 0xBF51B3F3#32
  | 54 => 0x3F800000#32
  | 55 => 0xBF51B3F3#32
  | 56 => 0x3EAF1D44#32
  | 57 => 0x3E8483EE#32
  | 58 => 0xBF441B7D#32
  | 59 => 0x3F7F069E#32
  | 60 => 0xBF5DB3D7#32
  | 61 => 0x3ED8616C#32
  | 62 => 0x3E31D0D4#32
  | 63 => 0xBF3504F3#32
  | 64 => 0x3F7C1C5C#32
  | 65 => 0xBF6803CA#32
  | 66 => 0x3F000000#32
  | 67 => 0x3DB27EB6#32
  | 68 => 0xBF248DBB#32
  | 69 => 0x3F7746EA#32
  | 70 => 0xBF708FB2#32
  | 71 => 0x3F12D5E8#32
  | 72 => 0x80000000#32
  | 73 => 0xBF12D5E8#32
  | 74 => 0x3F708FB2#32
  | 75 => 0xBF7746EA#32
  | 76 => 0x3F248DBB#32
  | 77 => 0xBDB27EB6#32
  | 78 => 0xBF000000#32
  | 79 => 0x3F6803CA#32
  | 80 => 0xBF7C1C5C#32
  | 81 => 0x3F3504F3#32
  | 82 => 0xBE31D0D4#32
  | 83 => 0xBED8616C#32
  | 84 => 0x3F5DB3D7#32
  | 85 => 0xBF7F069E#32
  | 86 => 0x3F441B7D#32
  | 87 => 0xBE8483EE#32
  | 88 => 0xBEAF1D44#32
  | 89 => 0x3F51B3F3#32
  | 90 => 0xBF800000#32
  | 91 => 0x3F51B3F3#32
  | 92 => 0xBEAF1D44#32
  | 93 => 0xBE8483EE#32
  | 94 => 0x3F441B7D#32
  | 95 => 0xBF7F069E#32
  | 96 => 0x3F5DB3D7#32
  | 97 => 0xBED8616C#32
  | 98 => 0xBE31D0D4#32
  | 99 => 0x3F3504F3#32
  | 100 => 0xBF7C1C5C#32
  | 101 => 0x3F6803CA#32
  | 102 => 0xBF000000#32
  | 103 => 0xBDB27EB6#32
  | 104 => 0x3F248DBB#32
  | 105 => 0xBF7746EA#32
  | 106 => 0x3F708FB2#32
  | 107 => 0xBF12D5E8#32
  | 108 => 0xA50D3132#32
  | 109 => 0x3F12D5E8#32
  | 110 => 0xBF708FB2#32
  | 111 => 0x3F7746EA#32
  | 112 => 0xBF248DBB#32
  | 113 => 0x3DB27EB6#32
  | 114 => 0x3F000000#32
  | 115 => 0xBF6803CA#32
  | 116 => 0x3F7C1C5C#32
  | 117 => 0xBF3504F3#32
  | 118 => 0x3E31D0D4#32
  | 119 => 0x3ED8616C#32
  | 120 => 0xBF5DB3D7#32
  | 121 => 0x3F7F069E#32
  | 122 => 0xBF441B7D#32
  | 123 => 0x3E8483EE#32
  | 124 => 0x3EAF1D44#32
  | 125 => 0xBF51B3F3#32
  | 126 => 0x3F800000#32
  | 127 => 0xBF51B3F3#32
  | _ => 0#32

noncomputable abbrev lit1t0_262 (i : Nat) : BitVec 32 := match i % 128 with
  | 0 => 0x3EAF1D44#32
  | 1 => 0x3E8483EE#32
  | 2 => 0xBF441B7D#32
  | 3 => 0x3F7F069E#32
  | 4 => 0xBF5DB3D7#32
  | 5 => 0x3ED8616C#32
  | 6 => 0x3E31D0D4#32
  | 7 => 0xBF3504F3#32
  | 8 => 0x3F7C1C5C#32
  | 9 => 0xBF6803CA#32
  | 10 => 0x3F000000#32
  | 11 => 0x3DB27EB6#32
  | 12 => 0xBF248DBB#32
  | 13 => 0x3F7746EA#32
  | 14 => 0xBF708FB2#32
  | 15 => 0x3F12D5E8#32
  | 16 => 0x80000000#32
  | 17 => 0xBF12D5E8#32
  | 18 => 0x3F708FB2#32
  | 19 => 0xBF7746EA#32
  | 20 => 0x3F248DBB#32
  | 21 => 0xBDB27EB6#32
  | 22 => 0xBF000000#32
  | 23 => 0x3F6803CA#32
  | 24 => 0xBF7C1C5C#32
  | 25 => 0x3F3504F3#32
  | 26 => 0xBE31D0D4#32
  | 27 => 0xBED8616C#32
  | 28 => 0x3F5DB3D7#32
  | 29 => 0xBF7F069E#32
  | 30 => 0x3F441B7D#32
  | 31 => 0xBE8483EE#32
  | 32 => 0xBEAF1D44#32
  | 33 => 0x3F51B3F3#32
  | 34 => 0xBF800000#32
  | 35 => 0x3F51B3F3#32
  | 36 => 0xBEAF1D44#32
  | 37 => 0xBE8483EE#32
  | 38 => 0x3F441B7D#32
  | 39 => 0xBF7F069E#32
  | 40 => 0x3F5DB3D7#32
  | 41 => 0xBED8616C#32
  | 42 => 0xBE31D0D4#32
  | 43 => 0x3F3504F3#32
  | 44 => 0xBF7C1C5C#32
  | 45 => 0x3F6803CA#32
  | 46 => 0xBF000000#32
  | 47 => 0xBDB27EB6#32
  | 48 => 0x3F248DBB#32
  | 49 => 0xBF7746EA#32
  | 50 => 0x3F708FB2#32
  | 51 => 0xBF12D5E8#32
  | 52 => 0xA50D3132#32
  | 53 => 0x3F12D5E8#32
  | 54 => 0xBF708FB2#32
  | 55 => 0x3F7746EA#32
  | 56 => 0xBF248DBB#32
  | 57 => 0x3DB27EB6#32
  | 58 => 0x3F000000#32
  | 59 => 0xBF6803CA#32
  | 60 => 0x3F7C1C5C#32
  | 61 => 0xBF3504F3#32
  | 62 => 0x3E31D0D4#32
  | 63 => 0x3ED8616C#32
  | 64 => 0xBF5DB3D7#32
  | 65 => 0x3F7F069E#32
  | 66 => 0xBF441B7D#32
  | 67 => 0x3E8483EE#32
  | 68 => 0x3EAF1D44#32
  | 69 => 0xBF51B3F3#32
  | 70 => 0x3F800000#32
  | 71 => 0xBF51B3F3#32
  | 72 => 0x3EAF1D44#32
  | 73 => 0x3E8483EE#32
  | 74 => 0xBF441B7D#32
  | 75 => 0x3F7F069E#32
  | 76 => 0xBF5DB3D7#32
  | 77 => 0x3ED8616C#32
  | 78 => 0x3E31D0D4#32
  | 79 => 0xBF3504F3#32
  | 80 => 0x3F7C1C5C#32
  | 81 => 0xBF6803CA#32
  | 82 => 0x3F000000#32
  | 83 => 0x3DB27EB6#32
  | 84 => 0xBF248DBB#32
  | 85 => 0x3F7746EA#32
  | 86 => 0xBF708FB2#32
  | 87 => 0x3F12D5E8#32
  | 88 => 0x80000000#32
  | 89 => 0xBF12D5E8#32
  | 90 => 0x3F708FB2#32
  | 91 => 0xBF7746EA#32
  | 92 => 0x3F248DBB#32
  | 93 => 0xBDB27EB6#32
  | 94 => 0xBF000000#32
  | 95 => 0x3F6803CA#32
  | 96 => 0xBF7C1C5C#32
  | 97 => 0x3F3504F3#32
  | 98 => 0xBE31D0D4#32
  | 99 => 0xBED8616C#32
  | 100 => 0x3F5DB3D7#32
  | 101 => 0xBF7F069E#32
  | 102 => 0x3F441B7D#32
  | 103 => 0xBE8483EE#32
  | 104 => 0xBEAF1D44#32
  | 105 => 0x3F51B3F3#32
  | 106 => 0xBF800000#32
  | 107 => 0x3F51B3F3#32
  | 108 => 0xBEAF1D44#32
  | 109 => 0xBE8483EE#32
  | 110 => 0x3F441B7D#32
  | 111 => 0xBF7F069E#32
  | 112 => 0x3F5DB3D7#32
  | 113 => 0xBED8616C#32
  | 114 => 0xBE31D0D4#32
  | 115 => 0x3F3504F3#32
  | 116 => 0xBF7C1C5C#32
  | 117 => 0x3F6803CA#32
  | 118 => 0xBF000000#32
  | 119 => 0xBDB27EB6#32
  | 120 => 0x3F248DBB#32
  | 121 => 0xBF7746EA#32
  | 122 => 0x3F708FB2#32
  | 123 => 0xBF12D5E8#32
  | 124 => 0xA50D3132#32
  | 125 => 0x3F12D5E8#32
  | 126 => 0xBF708FB2#32
  | 127 => 0x3F7746EA#32
  | _ => 0#32

noncomputable abbrev lit1t0_263 (i : Nat) : BitVec 32 := match i % 128 with
  | 0 => 0xBF248DBB#32
  | 1 => 0x3DB27EB6#32
  | 2 => 0x3F000000#32
  | 3 => 0xBF6803CA#32
  | 4 => 0x3F7C1C5C#32
  | 5 => 0xBF3504F3#32
  | 6 => 0x3E31D0D4#32
  | 7 => 0x3ED8616C#32
  | 8 => 0xBF5DB3D7#32
  | 9 => 0x3F7F069E#32
  | 10 => 0xBF441B7D#32
  | 11 => 0x3E8483EE#32
  | 12 => 0x3EAF1D44#32
  | 13 => 0xBF51B3F3#32
  | 14 => 0x3F800000#32
  | 15 => 0xBF51B3F3#32
  | 16 => 0x3EAF1D44#32
  | 17 => 0x3E8483EE#32
  | 18 => 0xBF441B7D#32
  | 19 => 0x3F7F069E#32
  | 20 => 0xBF5DB3D7#32
  | 21 => 0x3ED8616C#32
  | 22 => 0x3E31D0D4#32
  | 23 => 0xBF3504F3#32
  | 24 => 0x3F7C1C5C#32
  | 25 => 0xBF6803CA#32
  | 26 => 0x3F000000#32
  | 27 => 0x3DB27EB6#32
  | 28 => 0xBF248DBB#32
  | 29 => 0x3F7746EA#32
  | 30 => 0xBF708FB2#32
  | 31 => 0x3F12D5E8#32
  | 32 => 0x80000000#32
  | 33 => 0xBF0E39DA#32
  | 34 => 0x3F6C835E#32
  | 35 => 0xBF7B14BE#32
  | 36 => 0x3F3504F3#32
  | 37 => 0xBE47C5C2#32
  | 38 => 0xBEC3EF15#32
  | 39 => 0x3F54DB31#32
  | 40 => 0xBF800000#32
  | 41 => 0x3F54DB31#32
  | 42 => 0xBEC3EF15#32
  | 43 => 0xBE47C5C2#32
  | 44 => 0x3F3504F3#32
  | 45 => 0xBF7B14BE#32
  | 46 => 0x3F6C835E#32
  | 47 => 0xBF0E39DA#32
  | 48 => 0xA50D3132#32
  | 49 => 0x3F0E39DA#32
  | 50 => 0xBF6C835E#32
  | 51 => 0x3F7B14BE#32
  | 52 => 0xBF3504F3#32
  | 53 => 0x3E47C5C2#32
  | 54 => 0x3EC3EF15#32
  | 55 => 0xBF54DB31#32
  | 56 => 0x3F800000#32
  | 57 => 0xBF54DB31#32
  | 58 => 0x3EC3EF15#32
  | 59 => 0x3E47C5C2#32
  | 60 => 0xBF3504F3#32
  | 61 => 0x3F7B14BE#32
  | 62 => 0xBF6C835E#32
  | 63 => 0x3F0E39DA#32
  | 64 => 0x80000000#32
  | 65 => 0xBF0E39DA#32
  | 66 => 0x3F6C835E#32
  | 67 => 0xBF7B14BE#32
  | 68 => 0x3F3504F3#32
  | 69 => 0xBE47C5C2#32
  | 70 => 0xBEC3EF15#32
  | 71 => 0x3F54DB31#32
  | 72 => 0xBF800000#32
  | 73 => 0x3F54DB31#32
  | 74 => 0xBEC3EF15#32
  | 75 => 0xBE47C5C2#32
  | 76 => 0x3F3504F3#32
  | 77 => 0xBF7B14BE#32
  | 78 => 0x3F6C835E#32
  | 79 => 0xBF0E39DA#32
  | 80 => 0xA50D3132#32
  | 81 => 0x3F0E39DA#32
  | 82 => 0xBF6C835E#32
  | 83 => 0x3F7B14BE#32
  | 84 => 0xBF3504F3#32
  | 85 => 0x3E47C5C2#32
  | 86 => 0x3EC3EF15#32
  | 87 => 0xBF54DB31#32
  | 88 => 0x3F800000#32
  | 89 => 0xBF54DB31#32
  | 90 => 0x3EC3EF15#32
  | 91 => 0x3E47C5C2#32
  | 92 => 0xBF3504F3#32
  | 93 => 0x3F7B14BE#32
  | 94 => 0xBF6C835E#32
  | 95 => 0x3F0E39DA#32
  | 96 => 0x80000000#32
  | 97 => 0xBF0E39DA#32
  | 98 => 0x3F6C835E#32
  | 99 => 0xBF7B14BE#32
  | 100 => 0x3F3504F3#32
  | 101 => 0xBE47C5C2#32
  | 102 => 0xBEC3EF15#32
  | 103 => 0x3F54DB31#32
  | 104 => 0xBF800000#32
  | 105 => 0x3F54DB31#32
  | 106 => 0xBEC3EF15#32
  | 107 => 0xBE47C5C2#32
  | 108 => 0x3F3504F3#32
  | 109 => 0xBF7B14BE#32
  | 110 => 0x3F6C835E#32
  | 111 => 0xBF0E39DA#32
  | 112 => 0xA50D3132#32
  | 113 => 0x3F0E39DA#32
  | 114 => 0xBF6C835E#32
  | 115 => 0x3F7B14BE#32
  | 116 => 0xBF3504F3#32
  | 117 => 0x3E47C5C2#32
  | 118 => 0x3EC3EF15#32
  | 119 => 0xBF54DB31#32
  | 120 => 0x3F800000#32
  | 121 => 0xBF54DB31#32
  | 122 => 0x3EC3EF15#32
  | 123 => 0x3E47C5C2#32
  | 124 => 0xBF3504F3#32
  | 125 => 0x3F7B14BE#32
  | 126 => 0xBF6C835E#32
  | 127 => 0x3F0E39DA#32
  | _ => 0#32

noncomputable abbrev lit1t0_264 (i : Nat) : BitVec 32 := match i % 128 with
  | 0 => 0x80000000#32
  | 1 => 0xBF0E39DA#32
  | 2 => 0x3F6C835E#32
  | 3 => 0xBF7B14BE#32
  | 4 => 0x3F3504F3#32
  | 5 => 0xBE47C5C2#32
  | 6 => 0xBEC3EF15#32
  | 7 => 0x3F54DB31#32
  | 8 => 0xBF800000#32
  | 9 => 0x3F54DB31#32
  | 10 => 0xBEC3EF15#32
  | 11 => 0xBE47C5C2#32
  | 12 => 0x3F3504F3#32
  | 13 => 0xBF7B14BE#32
  | 14 => 0x3F6C835E#32
  | 15 => 0xBF0E39DA#32
  | 16 => 0xA50D3132#32
  | 17 => 0x3F0E39DA#32
  | 18 => 0xBF6C835E#32
  | 19 => 0x3F7B14BE#32
  | 20 => 0xBF3504F3#32
  | 21 => 0x3E47C5C2#32
  | 22 => 0x3EC3EF15#32
  | 23 => 0xBF54DB31#32
  | 24 => 0x3F800000#32
  | 25 => 0xBF54DB31#32
  | 26 => 0x3EC3EF15#32
  | 27 => 0x3E47C5C2#32
  | 28 => 0xBF3504F3#32
  | 29 => 0x3F7B14BE#32
  | 30 => 0xBF6C835E#32
  | 31 => 0x3F0E39DA#32
  | 32 => 0x80000000#32
  | 33 => 0xBF0E39DA#32
  | 34 => 0x3F6C835E#32
  | 35 => 0xBF7B14BE#32
  | 36 => 0x3F3504F3#32
  | 37 => 0xBE47C5C2#32
  | 38 => 0xBEC3EF15#32
  | 39 => 0x3F54DB31#32
  | 40 => 0xBF800000#32
  | 41 => 0x3F54DB31#32
  | 42 => 0xBEC3EF15#32
  | 43 => 0xBE47C5C2#32
  | 44 => 0x3F3504F3#32
  | 45 => 0xBF7B14BE#32
  | 46 => 0x3F6C835E#32
  | 47 => 0xBF0E39DA#32
  | 48 => 0xA50D3132#32
  | 49 => 0x3F0E39DA#32
  | 50 => 0xBF6C835E#32
  | 51 => 0x3F7B14BE#32
  | 52 => 0xBF3504F3#32
  | 53 => 0x3E47C5C2#32
  | 54 => 0x3EC3EF15#32
  | 55 => 0xBF54DB31#32
  | 56 => 0x3F800000#32
  | 57 => 0xBF54DB31#32
  | 58 => 0x3EC3EF15#32
  | 59 => 0x3E47C5C2#32
  | 60 => 0xBF3504F3#32
  | 61 => 0x3F7B14BE#32
  | 62 => 0xBF6C835E#32
  | 63 => 0x3F0E39DA#32
  | 64 => 0x80000000#32
  | 65 => 0xBF0E39DA#32
  | 66 => 0x3F6C835E#32
  | 67 => 0xBF7B14BE#32
  | 68 => 0x3F3504F3#32
  | 69 => 0xBE47C5C2#32
  | 70 => 0xBEC3EF15#32
  | 71 => 0x3F54DB31#32
  | 72 => 0xBF800000#32
  | 73 => 0x3F54DB31#32
  | 74 => 0xBEC3EF15#32
  | 75 => 0xBE47C5C2#32
  | 76 => 0x3F3504F3#32
  | 77 => 0xBF7B14BE#32
  | 78 => 0x3F6C835E#32
  | 79 => 0xBF0E39DA#32
  | 80 => 0xA50D3132#32
  | 81 => 0x3F0E39DA#32
  | 82 => 0xBF6C835E#32
  | 83 => 0x3F7B14BE#32
  | 84 => 0xBF3504F3#32
  | 85 => 0x3E47C5C2#32
  | 86 => 0x3EC3EF15#32
  | 87 => 0xBF54DB31#32
  | 88 => 0x3F800000#32
  | 89 => 0xBF54DB31#32
  | 90 => 0x3EC3EF15#32
  | 91 => 0x3E47C5C2#32
  | 92 => 0xBF3504F3#32
  | 93 => 0x3F7B14BE#32
  | 94 => 0xBF6C835E#32
  | 95 => 0x3F0E39DA#32
  | 96 => 0x80000000#32
  | 97 => 0xBF0E39DA#32
  | 98 => 0x3F6C835E#32
  | 99 => 0xBF7B14BE#32
  | 100 => 0x3F3504F3#32
  | 101 => 0xBE47C5C2#32
  | 102 => 0xBEC3EF15#32
  | 103 => 0x3F54DB31#32
  | 104 => 0xBF800000#32
  | 105 => 0x3F54DB31#32
  | 106 => 0xBEC3EF15#32
  | 107 => 0xBE47C5C2#32
  | 108 => 0x3F3504F3#32
  | 109 => 0xBF7B14BE#32
  | 110 => 0x3F6C835E#32
  | 111 => 0xBF0E39DA#32
  | 112 => 0xA50D3132#32
  | 113 => 0x3F0E39DA#32
  | 114 => 0xBF6C835E#32
  | 115 => 0x3F7B14BE#32
  | 116 => 0xBF3504F3#32
  | 117 => 0x3E47C5C2#32
  | 118 => 0x3EC3EF15#32
  | 119 => 0xBF54DB31#32
  | 120 => 0x3F800000#32
  | 121 => 0xBF54DB31#32
  | 122 => 0x3EC3EF15#32
  | 123 => 0x3E47C5C2#32
  | 124 => 0xBF3504F3#32
  | 125 => 0x3F7B14BE#32
  | 126 => 0xBF6C835E#32
  | 127 => 0x3F0E39DA#32
  | _ => 0#32

noncomputable abbrev lit1t0_265 (i : Nat) : BitVec 32 := match i % 128 with
  | 0 => 0x80000000#32
  | 1 => 0xBF0E39DA#32
  | 2 => 0x3F6C835E#32
  | 3 => 0xBF7B14BE#32
  | 4 => 0x3F3504F3#32
  | 5 => 0xBE47C5C2#32
  | 6 => 0xBEC3EF15#32
  | 7 => 0x3F54DB31#32
  | 8 => 0xBF800000#32
  | 9 => 0x3F54DB31#32
  | 10 => 0xBEC3EF15#32
  | 11 => 0xBE47C5C2#32
  | 12 => 0x3F3504F3#32
  | 13 => 0xBF7B14BE#32
  | 14 => 0x3F6C835E#32
  | 15 => 0xBF0E39DA#32
  | 16 => 0xA50D3132#32
  | 17 => 0x3F0E39DA#32
  | 18 => 0xBF6C835E#32
  | 19 => 0x3F7B14BE#32
  | 20 => 0xBF3504F3#32
  | 21 => 0x3E47C5C2#32
  | 22 => 0x3EC3EF15#32
  | 23 => 0xBF54DB31#32
  | 24 => 0x3F800000#32
  | 25 => 0xBF54DB31#32
  | 26 => 0x3EC3EF15#32
  | 27 => 0x3E47C5C2#32
  | 28 => 0xBF3504F3#32
  | 29 => 0x3F7B14BE#32
  | 30 => 0xBF6C835E#32
  | 31 => 0x3F0E39DA#32
  | 32 => 0x80000000#32
  | 33 => 0xBF0E39DA#32
  | 34 => 0x3F6C835E#32
  | 35 => 0xBF7B14BE#32
  | 36 => 0x3F3504F3#32
  | 37 => 0xBE47C5C2#32
  | 38 => 0xBEC3EF15#32
  | 39 => 0x3F54DB31#32
  | 40 => 0xBF800000#32
  | 41 => 0x3F54DB31#32
  | 42 => 0xBEC3EF15#32
  | 43 => 0xBE47C5C2#32
  | 44 => 0x3F3504F3#32
  | 45 => 0xBF7B14BE#32
  | 46 => 0x3F6C835E#32
  | 47 => 0xBF0E39DA#32
  | 48 => 0xA50D3132#32
  | 49 => 0x3F0E39DA#32
  | 50 => 0xBF6C835E#32
  | 51 => 0x3F7B14BE#32
  | 52 => 0xBF3504F3#32
  | 53 => 0x3E47C5C2#32
  | 54 => 0x3EC3EF15#32
  | 55 => 0xBF54DB31#32
  | 56 => 0x3F800000#32
  | 57 => 0xBF54DB31#32
  | 58 => 0x3EC3EF15#32
  | 59 => 0x3E47C5C2#32
  | 60 => 0xBF3504F3#32
  | 61 => 0x3F7B14BE#32
  | 62 => 0xBF6C835E#32
  | 63 => 0x3F0E39DA#32
  | 64 => 0x80000000#32
  | 65 => 0xBF098C78#32
  | 66 => 0x3F6803CA#32
  | 67 => 0xBF7DCF55#32
  | 68 => 0x3F441B7D#32
  | 69 => 0xBE99F61C#32
  | 70 => 0xBE8483EE#32
  | 71 => 0x3F3CBE35#32
  | 72 => 0xBF7C1C5C#32
  | 73 => 0x3F6C835E#32
  | 74 => 0xBF12D5E8#32
  | 75 => 0x3D32AA3E#32
  | 76 => 0x3F000000#32
  | 77 => 0xBF631324#32
  | 78 => 0x3F7F069E#32
  | 79 => 0xBF4B1934#32
  | 80 => 0x3EAF1D44#32
  | 81 => 0x3E5DA259#32
  | 82 => 0xBF3504F3#32
  | 83 => 0x3F79EE89#32
  | 84 => 0xBF708FB2#32
  | 85 => 0x3F1BD7CA#32
  | 86 => 0xBDB27EB6#32
  | 87 => 0xBEEC6A50#32
  | 88 => 0x3F5DB3D7#32
  | 89 => 0xBF7FC1A0#32
  | 90 => 0x3F51B3F3#32
  | 91 => 0xBEC3EF15#32
  | 92 => 0xBE31D0D4#32
  | 93 => 0x3F2CF37B#32
  | 94 => 0xBF7746EA#32
  | 95 => 0x3F7426CB#32
  | 96 => 0xBF248DBB#32
  | 97 => 0x3E05A8A8#32
  | 98 => 0x3ED8616C#32
  | 99 => 0xBF57E880#32
  | 100 => 0x3F800000#32
  | 101 => 0xBF57E880#32
  | 102 => 0x3ED8616C#32
  | 103 => 0x3E05A8A8#32
  | 104 => 0xBF248DBB#32
  | 105 => 0x3F7426CB#32
  | 106 => 0xBF7746EA#32
  | 107 => 0x3F2CF37B#32
  | 108 => 0xBE31D0D4#32
  | 109 => 0xBEC3EF15#32
  | 110 => 0x3F51B3F3#32
  | 111 => 0xBF7FC1A0#32
  | 112 => 0x3F5DB3D7#32
  | 113 => 0xBEEC6A50#32
  | 114 => 0xBDB27EB6#32
  | 115 => 0x3F1BD7CA#32
  | 116 => 0xBF708FB2#32
  | 117 => 0x3F79EE89#32
  | 118 => 0xBF3504F3#32
  | 119 => 0x3E5DA259#32
  | 120 => 0x3EAF1D44#32
  | 121 => 0xBF4B1934#32
  | 122 => 0x3F7F069E#32
  | 123 => 0xBF631324#32
  | 124 => 0x3F000000#32
  | 125 => 0x3D32AA3E#32
  | 126 => 0xBF12D5E8#32
  | 127 => 0x3F6C835E#32
  | _ => 0#32

noncomputable abbrev lit1t0_266 (i : Nat) : BitVec 32 := match i % 128 with
  | 0 => 0xBF7C1C5C#32
  | 1 => 0x3F3CBE35#32
  | 2 => 0xBE8483EE#32
  | 3 => 0xBE99F61C#32
  | 4 => 0x3F441B7D#32
  | 5 => 0xBF7DCF55#32
  | 6 => 0x3F6803CA#32
  | 7 => 0xBF098C78#32
  | 8 => 0xA50D3132#32
  | 9 => 0x3F098C78#32
  | 10 => 0xBF6803CA#32
  | 11 => 0x3F7DCF55#32
  | 12 => 0xBF441B7D#32
  | 13 => 0x3E99F61C#32
  | 14 => 0x3E8483EE#32
  | 15 => 0xBF3CBE35#32
  | 16 => 0x3F7C1C5C#32
  | 17 => 0xBF6C835E#32
  | 18 => 0x3F12D5E8#32
  | 19 => 0xBD32AA3E#32
  | 20 => 0xBF000000#32
  | 21 => 0x3F631324#32
  | 22 => 0xBF7F069E#32
  | 23 => 0x3F4B1934#32
  | 24 => 0xBEAF1D44#32
  | 25 => 0xBE5DA259#32
  | 26 => 0x3F3504F3#32
  | 27 => 0xBF79EE89#32
  | 28 => 0x3F708FB2#32
  | 29 => 0xBF1BD7CA#32
  | 30 => 0x3DB27EB6#32
  | 31 => 0x3EEC6A50#32
  | 32 => 0xBF5DB3D7#32
  | 33 => 0x3F7FC1A0#32
  | 34 => 0xBF51B3F3#32
  | 35 => 0x3EC3EF15#32
  | 36 => 0x3E31D0D4#32
  | 37 => 0xBF2CF37B#32
  | 38 => 0x3F7746EA#32
  | 39 => 0xBF7426CB#32
  | 40 => 0x3F248DBB#32
  | 41 => 0xBE05A8A8#32
  | 42 => 0xBED8616C#32
  | 43 => 0x3F57E880#32
  | 44 => 0xBF800000#32
  | 45 => 0x3F57E880#32
  | 46 => 0xBED8616C#32
  | 47 => 0xBE05A8A8#32
  | 48 => 0x3F248DBB#32
  | 49 => 0xBF7426CB#32
  | 50 => 0x3F7746EA#32
  | 51 => 0xBF2CF37B#32
  | 52 => 0x3E31D0D4#32
  | 53 => 0x3EC3EF15#32
  | 54 => 0xBF51B3F3#32
  | 55 => 0x3F7FC1A0#32
  | 56 => 0xBF5DB3D7#32
  | 57 => 0x3EEC6A50#32
  | 58 => 0x3DB27EB6#32
  | 59 => 0xBF1BD7CA#32
  | 60 => 0x3F708FB2#32
  | 61 => 0xBF79EE89#32
  | 62 => 0x3F3504F3#32
  | 63 => 0xBE5DA259#32
  | 64 => 0xBEAF1D44#32
  | 65 => 0x3F4B1934#32
  | 66 => 0xBF7F069E#32
  | 67 => 0x3F631324#32
  | 68 => 0xBF000000#32
  | 69 => 0xBD32AA3E#32
  | 70 => 0x3F12D5E8#32
  | 71 => 0xBF6C835E#32
  | 72 => 0x3F7C1C5C#32
  | 73 => 0xBF3CBE35#32
  | 74 => 0x3E8483EE#32
  | 75 => 0x3E99F61C#32
  | 76 => 0xBF441B7D#32
  | 77 => 0x3F7DCF55#32
  | 78 => 0xBF6803CA#32
  | 79 => 0x3F098C78#32
  | 80 => 0x80000000#32
  | 81 => 0xBF098C78#32
  | 82 => 0x3F6803CA#32
  | 83 => 0xBF7DCF55#32
  | 84 => 0x3F441B7D#32
  | 85 => 0xBE99F61C#32
  | 86 => 0xBE8483EE#32
  | 87 => 0x3F3CBE35#32
  | 88 => 0xBF7C1C5C#32
  | 89 => 0x3F6C835E#32
  | 90 => 0xBF12D5E8#32
  | 91 => 0x3D32AA3E#32
  | 92 => 0x3F000000#32
  | 93 => 0xBF631324#32
  | 94 => 0x3F7F069E#32
  | 95 => 0xBF4B1934#32
  | 96 => 0x3EAF1D44#32
  | 97 => 0x3E5DA259#32
  | 98 => 0xBF3504F3#32
  | 99 => 0x3F79EE89#32
  | 100 => 0xBF708FB2#32
  | 101 => 0x3F1BD7CA#32
  | 102 => 0xBDB27EB6#32
  | 103 => 0xBEEC6A50#32
  | 104 => 0x3F5DB3D7#32
  | 105 => 0xBF7FC1A0#32
  | 106 => 0x3F51B3F3#32
  | 107 => 0xBEC3EF15#32
  | 108 => 0xBE31D0D4#32
  | 109 => 0x3F2CF37B#32
  | 110 => 0xBF7746EA#32
  | 111 => 0x3F7426CB#32
  | 112 => 0xBF248DBB#32
  | 113 => 0x3E05A8A8#32
  | 114 => 0x3ED8616C#32
  | 115 => 0xBF57E880#32
  | 116 => 0x3F800000#32
  | 117 => 0xBF57E880#32
  | 118 => 0x3ED8616C#32
  | 119 => 0x3E05A8A8#32
  | 120 => 0xBF248DBB#32
  | 121 => 0x3F7426CB#32
  | 122 => 0xBF7746EA#32
  | 123 => 0x3F2CF37B#32
  | 124 => 0xBE31D0D4#32
  | 125 => 0xBEC3EF15#32
  | 126 => 0x3F51B3F3#32
  | 127 => 0xBF7FC1A0#32
  | _ => 0#32

noncomputable abbrev lit1t0_267 (i : Nat) : BitVec 32 := match i % 128 with
  | 0 => 0x3F5DB3D7#32
  | 1 => 0xBEEC6A50#32
  | 2 => 0xBDB27EB6#32
  | 3 => 0x3F1BD7CA#32
  | 4 => 0xBF708FB2#32
  | 5 => 0x3F79EE89#32
  | 6 => 0xBF3504F3#32
  | 7 => 0x3E5DA259#32
  | 8 => 0x3EAF1D44#32
  | 9 => 0xBF4B1934#32
  | 10 => 0x3F7F069E#32
  | 11 => 0xBF631324#32
  | 12 => 0x3F000000#32
  | 13 => 0x3D32AA3E#32
  | 14 => 0xBF12D5E8#32
  | 15 => 0x3F6C835E#32
  | 16 => 0xBF7C1C5C#32
  | 17 => 0x3F3CBE35#32
  | 18 => 0xBE8483EE#32
  | 19 => 0xBE99F61C#32
  | 20 => 0x3F441B7D#32
  | 21 => 0xBF7DCF55#32
  | 22 => 0x3F6803CA#32
  | 23 => 0xBF098C78#32
  | 24 => 0xA50D3132#32
  | 25 => 0x3F098C78#32
  | 26 => 0xBF6803CA#32
  | 27 => 0x3F7DCF55#32
  | 28 => 0xBF441B7D#32
  | 29 => 0x3E99F61C#32
  | 30 => 0x3E8483EE#32
  | 31 => 0xBF3CBE35#32
  | 32 => 0x3F7C1C5C#32
  | 33 => 0xBF6C835E#32
  | 34 => 0x3F12D5E8#32
  | 35 => 0xBD32AA3E#32
  | 36 => 0xBF000000#32
  | 37 => 0x3F631324#32
  | 38 => 0xBF7F069E#32
  | 39 => 0x3F4B1934#32
  | 40 => 0xBEAF1D44#32
  | 41 => 0xBE5DA259#32
  | 42 => 0x3F3504F3#32
  | 43 => 0xBF79EE89#32
  | 44 => 0x3F708FB2#32
  | 45 => 0xBF1BD7CA#32
  | 46 => 0x3DB27EB6#32
  | 47 => 0x3EEC6A50#32
  | 48 => 0xBF5DB3D7#32
  | 49 => 0x3F7FC1A0#32
  | 50 => 0xBF51B3F3#32
  | 51 => 0x3EC3EF15#32
  | 52 => 0x3E31D0D4#32
  | 53 => 0xBF2CF37B#32
  | 54 => 0x3F7746EA#32
  | 55 => 0xBF7426CB#32
  | 56 => 0x3F248DBB#32
  | 57 => 0xBE05A8A8#32
  | 58 => 0xBED8616C#32
  | 59 => 0x3F57E880#32
  | 60 => 0xBF800000#32
  | 61 => 0x3F57E880#32
  | 62 => 0xBED8616C#32
  | 63 => 0xBE05A8A8#32
  | 64 => 0x3F248DBB#32
  | 65 => 0xBF7426CB#32
  | 66 => 0x3F7746EA#32
  | 67 => 0xBF2CF37B#32
  | 68 => 0x3E31D0D4#32
  | 69 => 0x3EC3EF15#32
  | 70 => 0xBF51B3F3#32
  | 71 => 0x3F7FC1A0#32
  | 72 => 0xBF5DB3D7#32
  | 73 => 0x3EEC6A50#32
  | 74 => 0x3DB27EB6#32
  | 75 => 0xBF1BD7CA#32
  | 76 => 0x3F708FB2#32
  | 77 => 0xBF79EE89#32
  | 78 => 0x3F3504F3#32
  | 79 => 0xBE5DA259#32
  | 80 => 0xBEAF1D44#32
  | 81 => 0x3F4B1934#32
  | 82 => 0xBF7F069E#32
  | 83 => 0x3F631324#32
  | 84 => 0xBF000000#32
  | 85 => 0xBD32AA3E#32
  | 86 => 0x3F12D5E8#32
  | 87 => 0xBF6C835E#32
  | 88 => 0x3F7C1C5C#32
  | 89 => 0xBF3CBE35#32
  | 90 => 0x3E8483EE#32
  | 91 => 0x3E99F61C#32
  | 92 => 0xBF441B7D#32
  | 93 => 0x3F7DCF55#32
  | 94 => 0xBF6803CA#32
  | 95 => 0x3F098C78#32
  | 96 => 0x80000000#32
  | 97 => 0xBF04CE53#32
  | 98 => 0x3F631324#32
  | 99 => 0xBF7F73AF#32
  | 100 => 0x3F51B3F3#32
  | 101 => 0xBECE34D0#32
  | 102 => 0xBE05A8A8#32
  | 103 => 0x3F203C85#32
  | 104 => 0xBF708FB2#32
  | 105 => 0x3F7B14BE#32
  | 106 => 0xBF3CBE35#32
  | 107 => 0x3E8F45C0#32
  | 108 => 0x3E8483EE#32
  | 109 => 0xBF38ECD8#32
  | 110 => 0x3F79EE89#32
  | 111 => 0xBF726A03#32
  | 112 => 0x3F248DBB#32
  | 113 => 0xBE1BC63C#32
  | 114 => 0xBEC3EF15#32
  | 115 => 0x3F4E7327#32
  | 116 => 0xBF7F069E#32
  | 117 => 0x3F659974#32
  | 118 => 0xBF098C78#32
  | 119 => 0x3CB2B521#32
  | 120 => 0x3F000000#32
  | 121 => 0xBF60712A#32
  | 122 => 0x3F7FC1A0#32
  | 123 => 0xBF54DB31#32
  | 124 => 0x3ED8616C#32
  | 125 => 0x3DDEF599#32
  | 126 => 0xBF1BD7CA#32
  | 127 => 0x3F6E9811#32
  | _ => 0#32

noncomputable abbrev lit1t0_268 (i : Nat) : BitVec 32 := match i % 128 with
  | 0 => 0xBF7C1C5C#32
  | 1 => 0x3F407893#32
  | 2 => 0xBE99F61C#32
  | 3 => 0xBE7363EE#32
  | 4 => 0x3F3504F3#32
  | 5 => 0xBF78A9E0#32
  | 6 => 0x3F7426CB#32
  | 7 => 0xBF28CAE3#32
  | 8 => 0x3E31D0D4#32
  | 9 => 0x3EB9917B#32
  | 10 => 0xBF4B1934#32
  | 11 => 0x3F7E7A7A#32
  | 12 => 0xBF6803CA#32
  | 13 => 0x3F0E39DA#32
  | 14 => 0xBD32AA3E#32
  | 15 => 0xBEF64429#32
  | 16 => 0x3F5DB3D7#32
  | 17 => 0xBF7FF067#32
  | 18 => 0x3F57E880#32
  | 19 => 0xBEE273AA#32
  | 20 => 0xBDB27EB6#32
  | 21 => 0x3F176012#32
  | 22 => 0xBF6C835E#32
  | 23 => 0x3F7D0543#32
  | 24 => 0xBF441B7D#32
  | 25 => 0x3EA493B7#32
  | 26 => 0x3E5DA259#32
  | 27 => 0xBF310700#32
  | 28 => 0x3F7746EA#32
  | 29 => 0xBF75C5D4#32
  | 30 => 0x3F2CF37B#32
  | 31 => 0xBE47C5C2#32
  | 32 => 0xBEAF1D44#32
  | 33 => 0x3F47A682#32
  | 34 => 0xBF7DCF55#32
  | 35 => 0x3F6A51DA#32
  | 36 => 0xBF12D5E8#32
  | 37 => 0x3D85F213#32
  | 38 => 0x3EEC6A50#32
  | 39 => 0xBF5ADB81#32
  | 40 => 0x3F800000#32
  | 41 => 0xBF5ADB81#32
  | 42 => 0x3EEC6A50#32
  | 43 => 0x3D85F213#32
  | 44 => 0xBF12D5E8#32
  | 45 => 0x3F6A51DA#32
  | 46 => 0xBF7DCF55#32
  | 47 => 0x3F47A682#32
  | 48 => 0xBEAF1D44#32
  | 49 => 0xBE47C5C2#32
  | 50 => 0x3F2CF37B#32
  | 51 => 0xBF75C5D4#32
  | 52 => 0x3F7746EA#32
  | 53 => 0xBF310700#32
  | 54 => 0x3E5DA259#32
  | 55 => 0x3EA493B7#32
  | 56 => 0xBF441B7D#32
  | 57 => 0x3F7D0543#32
  | 58 => 0xBF6C835E#32
  | 59 => 0x3F176012#32
  | 60 => 0xBDB27EB6#32
  | 61 => 0xBEE273AA#32
  | 62 => 0x3F57E880#32
  | 63 => 0xBF7FF067#32
  | 64 => 0x3F5DB3D7#32
  | 65 => 0xBEF64429#32
  | 66 => 0xBD32AA3E#32
  | 67 => 0x3F0E39DA#32
  | 68 => 0xBF6803CA#32
  | 69 => 0x3F7E7A7A#32
  | 70 => 0xBF4B1934#32
  | 71 => 0x3EB9917B#32
  | 72 => 0x3E31D0D4#32
  | 73 => 0xBF28CAE3#32
  | 74 => 0x3F7426CB#32
  | 75 => 0xBF78A9E0#32
  | 76 => 0x3F3504F3#32
  | 77 => 0xBE7363EE#32
  | 78 => 0xBE99F61C#32
  | 79 => 0x3F407893#32
  | 80 => 0xBF7C1C5C#32
  | 81 => 0x3F6E9811#32
  | 82 => 0xBF1BD7CA#32
  | 83 => 0x3DDEF599#32
  | 84 => 0x3ED8616C#32
  | 85 => 0xBF54DB31#32
  | 86 => 0x3F7FC1A0#32
  | 87 => 0xBF60712A#32
  | 88 => 0x3F000000#32
  | 89 => 0x3CB2B521#32
  | 90 => 0xBF098C78#32
  | 91 => 0x3F659974#32
  | 92 => 0xBF7F069E#32
  | 93 => 0x3F4E7327#32
  | 94 => 0xBEC3EF15#32
  | 95 => 0xBE1BC63C#32
  | 96 => 0x3F248DBB#32
  | 97 => 0xBF726A03#32
  | 98 => 0x3F79EE89#32
  | 99 => 0xBF38ECD8#32
  | 100 => 0x3E8483EE#32
  | 101 => 0x3E8F45C0#32
  | 102 => 0xBF3CBE35#32
  | 103 => 0x3F7B14BE#32
  | 104 => 0xBF708FB2#32
  | 105 => 0x3F203C85#32
  | 106 => 0xBE05A8A8#32
  | 107 => 0xBECE34D0#32
  | 108 => 0x3F51B3F3#32
  | 109 => 0xBF7F73AF#32
  | 110 => 0x3F631324#32
  | 111 => 0xBF04CE53#32
  | 112 => 0xA50D3132#32
  | 113 => 0x3F04CE53#32
  | 114 => 0xBF631324#32
  | 115 => 0x3F7F73AF#32
  | 116 => 0xBF51B3F3#32
  | 117 => 0x3ECE34D0#32
  | 118 => 0x3E05A8A8#32
  | 119 => 0xBF203C85#32
  | 120 => 0x3F708FB2#32
  | 121 => 0xBF7B14BE#32
  | 122 => 0x3F3CBE35#32
  | 123 => 0xBE8F45C0#32
  | 124 => 0xBE8483EE#32
  | 125 => 0x3F38ECD8#32
  | 126 => 0xBF79EE89#32
  | 127 => 0x3F726A03#32
  | _ => 0#32

noncomputable abbrev lit1t0_269 (i : Nat) : BitVec 32 := match i % 128 with
  | 0 => 0xBF248DBB#32
  | 1 => 0x3E1BC63C#32
  | 2 => 0x3EC3EF15#32
  | 3 => 0xBF4E7327#32
  | 4 => 0x3F7F069E#32
  | 5 => 0xBF659974#32
  | 6 => 0x3F098C78#32
  | 7 => 0xBCB2B521#32
  | 8 => 0xBF000000#32
  | 9 => 0x3F60712A#32
  | 10 => 0xBF7FC1A0#32
  | 11 => 0x3F54DB31#32
  | 12 => 0xBED8616C#32
  | 13 => 0xBDDEF599#32
  | 14 => 0x3F1BD7CA#32
  | 15 => 0xBF6E9811#32
  | 16 => 0x3F7C1C5C#32
  | 17 => 0xBF407893#32
  | 18 => 0x3E99F61C#32
  | 19 => 0x3E7363EE#32
  | 20 => 0xBF3504F3#32
  | 21 => 0x3F78A9E0#32
  | 22 => 0xBF7426CB#32
  | 23 => 0x3F28CAE3#32
  | 24 => 0xBE31D0D4#32
  | 25 => 0xBEB9917B#32
  | 26 => 0x3F4B1934#32
  | 27 => 0xBF7E7A7A#32
  | 28 => 0x3F6803CA#32
  | 29 => 0xBF0E39DA#32
  | 30 => 0x3D32AA3E#32
  | 31 => 0x3EF64429#32
  | 32 => 0xBF5DB3D7#32
  | 33 => 0x3F7FF067#32
  | 34 => 0xBF57E880#32
  | 35 => 0x3EE273AA#32
  | 36 => 0x3DB27EB6#32
  | 37 => 0xBF176012#32
  | 38 => 0x3F6C835E#32
  | 39 => 0xBF7D0543#32
  | 40 => 0x3F441B7D#32
  | 41 => 0xBEA493B7#32
  | 42 => 0xBE5DA259#32
  | 43 => 0x3F310700#32
  | 44 => 0xBF7746EA#32
  | 45 => 0x3F75C5D4#32
  | 46 => 0xBF2CF37B#32
  | 47 => 0x3E47C5C2#32
  | 48 => 0x3EAF1D44#32
  | 49 => 0xBF47A682#32
  | 50 => 0x3F7DCF55#32
  | 51 => 0xBF6A51DA#32
  | 52 => 0x3F12D5E8#32
  | 53 => 0xBD85F213#32
  | 54 => 0xBEEC6A50#32
  | 55 => 0x3F5ADB81#32
  | 56 => 0xBF800000#32
  | 57 => 0x3F5ADB81#32
  | 58 => 0xBEEC6A50#32
  | 59 => 0xBD85F213#32
  | 60 => 0x3F12D5E8#32
  | 61 => 0xBF6A51DA#32
  | 62 => 0x3F7DCF55#32
  | 63 => 0xBF47A682#32
  | 64 => 0x3EAF1D44#32
  | 65 => 0x3E47C5C2#32
  | 66 => 0xBF2CF37B#32
  | 67 => 0x3F75C5D4#32
  | 68 => 0xBF7746EA#32
  | 69 => 0x3F310700#32
  | 70 => 0xBE5DA259#32
  | 71 => 0xBEA493B7#32
  | 72 => 0x3F441B7D#32
  | 73 => 0xBF7D0543#32
  | 74 => 0x3F6C835E#32
  | 75 => 0xBF176012#32
  | 76 => 0x3DB27EB6#32
  | 77 => 0x3EE273AA#32
  | 78 => 0xBF57E880#32
  | 79 => 0x3F7FF067#32
  | 80 => 0xBF5DB3D7#32
  | 81 => 0x3EF64429#32
  | 82 => 0x3D32AA3E#32
  | 83 => 0xBF0E39DA#32
  | 84 => 0x3F6803CA#32
  | 85 => 0xBF7E7A7A#32
  | 86 => 0x3F4B1934#32
  | 87 => 0xBEB9917B#32
  | 88 => 0xBE31D0D4#32
  | 89 => 0x3F28CAE3#32
  | 90 => 0xBF7426CB#32
  | 91 => 0x3F78A9E0#32
  | 92 => 0xBF3504F3#32
  | 93 => 0x3E7363EE#32
  | 94 => 0x3E99F61C#32
  | 95 => 0xBF407893#32
  | 96 => 0x3F7C1C5C#32
  | 97 => 0xBF6E9811#32
  | 98 => 0x3F1BD7CA#32
  | 99 => 0xBDDEF599#32
  | 100 => 0xBED8616C#32
  | 101 => 0x3F54DB31#32
  | 102 => 0xBF7FC1A0#32
  | 103 => 0x3F60712A#32
  | 104 => 0xBF000000#32
  | 105 => 0xBCB2B521#32
  | 106 => 0x3F098C78#32
  | 107 => 0xBF659974#32
  | 108 => 0x3F7F069E#32
  | 109 => 0xBF4E7327#32
  | 110 => 0x3EC3EF15#32
  | 111 => 0x3E1BC63C#32
  | 112 => 0xBF248DBB#32
  | 113 => 0x3F726A03#32
  | 114 => 0xBF79EE89#32
  | 115 => 0x3F38ECD8#32
  | 116 => 0xBE8483EE#32
  | 117 => 0xBE8F45C0#32
  | 118 => 0x3F3CBE35#32
  | 119 => 0xBF7B14BE#32
  | 120 => 0x3F708FB2#32
  | 121 => 0xBF203C85#32
  | 122 => 0x3E05A8A8#32
  | 123 => 0x3ECE34D0#32
  | 124 => 0xBF51B3F3#32
  | 125 => 0x3F7F73AF#32
  | 126 => 0xBF631324#32
  | 127 => 0x3F04CE53#32
  | _ => 0#32

noncomputable abbrev lit1t0_270 (i : Nat) : BitVec 32 := match i % 128 with
  | 0 => 0x80000000#32
  | 1 => 0xBF000000#32
  | 2 => 0x3F5DB3D7#32
  | 3 => 0xBF800000#32
  | 4 => 0x3F5DB3D7#32
  | 5 => 0xBF000000#32
  | 6 => 0xA50D3132#32
  | 7 => 0x3F000000#32
  | 8 => 0xBF5DB3D7#32
  | 9 => 0x3F800000#32
  | 10 => 0xBF5DB3D7#32
  | 11 => 0x3F000000#32
  | 12 => 0x80000000#32
  | 13 => 0xBF000000#32
  | 14 => 0x3F5DB3D7#32
  | 15 => 0xBF800000#32
  | 16 => 0x3F5DB3D7#32
  | 17 => 0xBF000000#32
  | 18 => 0xA50D3132#32
  | 19 => 0x3F000000#32
  | 20 => 0xBF5DB3D7#32
  | 21 => 0x3F800000#32
  | 22 => 0xBF5DB3D7#32
  | 23 => 0x3F000000#32
  | 24 => 0x80000000#32
  | 25 => 0xBF000000#32
  | 26 => 0x3F5DB3D7#32
  | 27 => 0xBF800000#32
  | 28 => 0x3F5DB3D7#32
  | 29 => 0xBF000000#32
  | 30 => 0xA50D3132#32
  | 31 => 0x3F000000#32
  | 32 => 0xBF5DB3D7#32
  | 33 => 0x3F800000#32
  | 34 => 0xBF5DB3D7#32
  | 35 => 0x3F000000#32
  | 36 => 0x80000000#32
  | 37 => 0xBF000000#32
  | 38 => 0x3F5DB3D7#32
  | 39 => 0xBF800000#32
  | 40 => 0x3F5DB3D7#32
  | 41 => 0xBF000000#32
  | 42 => 0xA50D3132#32
  | 43 => 0x3F000000#32
  | 44 => 0xBF5DB3D7#32
  | 45 => 0x3F800000#32
  | 46 => 0xBF5DB3D7#32
  | 47 => 0x3F000000#32
  | 48 => 0x80000000#32
  | 49 => 0xBF000000#32
  | 50 => 0x3F5DB3D7#32
  | 51 => 0xBF800000#32
  | 52 => 0x3F5DB3D7#32
  | 53 => 0xBF000000#32
  | 54 => 0xA50D3132#32
  | 55 => 0x3F000000#32
  | 56 => 0xBF5DB3D7#32
  | 57 => 0x3F800000#32
  | 58 => 0xBF5DB3D7#32
  | 59 => 0x3F000000#32
  | 60 => 0x80000000#32
  | 61 => 0xBF000000#32
  | 62 => 0x3F5DB3D7#32
  | 63 => 0xBF800000#32
  | 64 => 0x3F5DB3D7#32
  | 65 => 0xBF000000#32
  | 66 => 0xA50D3132#32
  | 67 => 0x3F000000#32
  | 68 => 0xBF5DB3D7#32
  | 69 => 0x3F800000#32
  | 70 => 0xBF5DB3D7#32
  | 71 => 0x3F000000#32
  | 72 => 0x80000000#32
  | 73 => 0xBF000000#32
  | 74 => 0x3F5DB3D7#32
  | 75 => 0xBF800000#32
  | 76 => 0x3F5DB3D7#32
  | 77 => 0xBF000000#32
  | 78 => 0xA50D3132#32
  | 79 => 0x3F000000#32
  | 80 => 0xBF5DB3D7#32
  | 81 => 0x3F800000#32
  | 82 => 0xBF5DB3D7#32
  | 83 => 0x3F000000#32
  | 84 => 0x80000000#32
  | 85 => 0xBF000000#32
  | 86 => 0x3F5DB3D7#32
  | 87 => 0xBF800000#32
  | 88 => 0x3F5DB3D7#32
  | 89 => 0xBF000000#32
  | 90 => 0xA50D3132#32
  | 91 => 0x3F000000#32
  | 92 => 0xBF5DB3D7#32
  | 93 => 0x3F800000#32
  | 94 => 0xBF5DB3D7#32
  | 95 => 0x3F000000#32
  | 96 => 0x80000000#32
  | 97 => 0xBF000000#32
  | 98 => 0x3F5DB3D7#32
  | 99 => 0xBF800000#32
  | 100 => 0x3F5DB3D7#32
  | 101 => 0xBF000000#32
  | 102 => 0xA50D3132#32
  | 103 => 0x3F000000#32
  | 104 => 0xBF5DB3D7#32
  | 105 => 0x3F800000#32
  | 106 => 0xBF5DB3D7#32
  | 107 => 0x3F000000#32
  | 108 => 0x80000000#32
  | 109 => 0xBF000000#32
  | 110 => 0x3F5DB3D7#32
  | 111 => 0xBF800000#32
  | 112 => 0x3F5DB3D7#32
  | 113 => 0xBF000000#32
  | 114 => 0xA50D3132#32
  | 115 => 0x3F000000#32
  | 116 => 0xBF5DB3D7#32
  | 117 => 0x3F800000#32
  | 118 => 0xBF5DB3D7#32
  | 119 => 0x3F000000#32
  | 120 => 0x80000000#32
  | 121 => 0xBF000000#32
  | 122 => 0x3F5DB3D7#32
  | 123 => 0xBF800000#32
  | 124 => 0x3F5DB3D7#32
  | 125 => 0xBF000000#32
  | 126 => 0xA50D3132#32
  | 127 => 0x3F000000#32
  | _ => 0#32

noncomputable abbrev lit1t0_271 (i : Nat) : BitVec 32 := match i % 128 with
  | 0 => 0xBF5DB3D7#32
  | 1 => 0x3F800000#32
  | 2 => 0xBF5DB3D7#32
  | 3 => 0x3F000000#32
  | 4 => 0x80000000#32
  | 5 => 0xBF000000#32
  | 6 => 0x3F5DB3D7#32
  | 7 => 0xBF800000#32
  | 8 => 0x3F5DB3D7#32
  | 9 => 0xBF000000#32
  | 10 => 0xA50D3132#32
  | 11 => 0x3F000000#32
  | 12 => 0xBF5DB3D7#32
  | 13 => 0x3F800000#32
  | 14 => 0xBF5DB3D7#32
  | 15 => 0x3F000000#32
  | 16 => 0x80000000#32
  | 17 => 0xBF000000#32
  | 18 => 0x3F5DB3D7#32
  | 19 => 0xBF800000#32
  | 20 => 0x3F5DB3D7#32
  | 21 => 0xBF000000#32
  | 22 => 0xA50D3132#32
  | 23 => 0x3F000000#32
  | 24 => 0xBF5DB3D7#32
  | 25 => 0x3F800000#32
  | 26 => 0xBF5DB3D7#32
  | 27 => 0x3F000000#32
  | 28 => 0x80000000#32
  | 29 => 0xBF000000#32
  | 30 => 0x3F5DB3D7#32
  | 31 => 0xBF800000#32
  | 32 => 0x3F5DB3D7#32
  | 33 => 0xBF000000#32
  | 34 => 0xA50D3132#32
  | 35 => 0x3F000000#32
  | 36 => 0xBF5DB3D7#32
  | 37 => 0x3F800000#32
  | 38 => 0xBF5DB3D7#32
  | 39 => 0x3F000000#32
  | 40 => 0x80000000#32
  | 41 => 0xBF000000#32
  | 42 => 0x3F5DB3D7#32
  | 43 => 0xBF800000#32
  | 44 => 0x3F5DB3D7#32
  | 45 => 0xBF000000#32
  | 46 => 0xA50D3132#32
  | 47 => 0x3F000000#32
  | 48 => 0xBF5DB3D7#32
  | 49 => 0x3F800000#32
  | 50 => 0xBF5DB3D7#32
  | 51 => 0x3F000000#32
  | 52 => 0x80000000#32
  | 53 => 0xBF000000#32
  | 54 => 0x3F5DB3D7#32
  | 55 => 0xBF800000#32
  | 56 => 0x3F5DB3D7#32
  | 57 => 0xBF000000#32
  | 58 => 0xA50D3132#32
  | 59 => 0x3F000000#32
  | 60 => 0xBF5DB3D7#32
  | 61 => 0x3F800000#32
  | 62 => 0xBF5DB3D7#32
  | 63 => 0x3F000000#32
  | 64 => 0x80000000#32
  | 65 => 0xBF000000#32
  | 66 => 0x3F5DB3D7#32
  | 67 => 0xBF800000#32
  | 68 => 0x3F5DB3D7#32
  | 69 => 0xBF000000#32
  | 70 => 0xA50D3132#32
  | 71 => 0x3F000000#32
  | 72 => 0xBF5DB3D7#32
  | 73 => 0x3F800000#32
  | 74 => 0xBF5DB3D7#32
  | 75 => 0x3F000000#32
  | 76 => 0x80000000#32
  | 77 => 0xBF000000#32
  | 78 => 0x3F5DB3D7#32
  | 79 => 0xBF800000#32
  | 80 => 0x3F5DB3D7#32
  | 81 => 0xBF000000#32
  | 82 => 0xA50D3132#32
  | 83 => 0x3F000000#32
  | 84 => 0xBF5DB3D7#32
  | 85 => 0x3F800000#32
  | 86 => 0xBF5DB3D7#32
  | 87 => 0x3F000000#32
  | 88 => 0x80000000#32
  | 89 => 0xBF000000#32
  | 90 => 0x3F5DB3D7#32
  | 91 => 0xBF800000#32
  | 92 => 0x3F5DB3D7#32
  | 93 => 0xBF000000#32
  | 94 => 0xA50D3132#32
  | 95 => 0x3F000000#32
  | 96 => 0xBF5DB3D7#32
  | 97 => 0x3F800000#32
  | 98 => 0xBF5DB3D7#32
  | 99 => 0x3F000000#32
  | 100 => 0x80000000#32
  | 101 => 0xBF000000#32
  | 102 => 0x3F5DB3D7#32
  | 103 => 0xBF800000#32
  | 104 => 0x3F5DB3D7#32
  | 105 => 0xBF000000#32
  | 106 => 0xA50D3132#32
  | 107 => 0x3F000000#32
  | 108 => 0xBF5DB3D7#32
  | 109 => 0x3F800000#32
  | 110 => 0xBF5DB3D7#32
  | 111 => 0x3F000000#32
  | 112 => 0x80000000#32
  | 113 => 0xBF000000#32
  | 114 => 0x3F5DB3D7#32
  | 115 => 0xBF800000#32
  | 116 => 0x3F5DB3D7#32
  | 117 => 0xBF000000#32
  | 118 => 0xA50D3132#32
  | 119 => 0x3F000000#32
  | 120 => 0xBF5DB3D7#32
  | 121 => 0x3F800000#32
  | 122 => 0xBF5DB3D7#32
  | 123 => 0x3F000000#32
  | 124 => 0x80000000#32
  | 125 => 0xBF000000#32
  | 126 => 0x3F5DB3D7#32
  | 127 => 0xBF800000#32
  | _ => 0#32

noncomputable abbrev lit1t0_272 (i : Nat) : BitVec 32 := match i % 128 with
  | 0 => 0x3F5DB3D7#32
  | 1 => 0xBF000000#32
  | 2 => 0xA50D3132#32
  | 3 => 0x3F000000#32
  | 4 => 0xBF5DB3D7#32
  | 5 => 0x3F800000#32
  | 6 => 0xBF5DB3D7#32
  | 7 => 0x3F000000#32
  | 8 => 0x80000000#32
  | 9 => 0xBF000000#32
  | 10 => 0x3F5DB3D7#32
  | 11 => 0xBF800000#32
  | 12 => 0x3F5DB3D7#32
  | 13 => 0xBF000000#32
  | 14 => 0xA50D3132#32
  | 15 => 0x3F000000#32
  | 16 => 0xBF5DB3D7#32
  | 17 => 0x3F800000#32
  | 18 => 0xBF5DB3D7#32
  | 19 => 0x3F000000#32
  | 20 => 0x80000000#32
  | 21 => 0xBF000000#32
  | 22 => 0x3F5DB3D7#32
  | 23 => 0xBF800000#32
  | 24 => 0x3F5DB3D7#32
  | 25 => 0xBF000000#32
  | 26 => 0xA50D3132#32
  | 27 => 0x3F000000#32
  | 28 => 0xBF5DB3D7#32
  | 29 => 0x3F800000#32
  | 30 => 0xBF5DB3D7#32
  | 31 => 0x3F000000#32
  | 32 => 0x80000000#32
  | 33 => 0xBEF64429#32
  | 34 => 0x3F57E880#32
  | 35 => 0xBF7F73AF#32
  | 36 => 0x3F6803CA#32
  | 37 => 0xBF176012#32
  | 38 => 0x3E05A8A8#32
  | 39 => 0x3EB9917B#32
  | 40 => 0xBF441B7D#32
  | 41 => 0x3F7B14BE#32
  | 42 => 0xBF7426CB#32
  | 43 => 0x3F310700#32
  | 44 => 0xBE8483EE#32
  | 45 => 0xBE7363EE#32
  | 46 => 0x3F2CF37B#32
  | 47 => 0xBF726A03#32
  | 48 => 0x3F7C1C5C#32
  | 49 => 0xBF47A682#32
  | 50 => 0x3EC3EF15#32
  | 51 => 0x3DDEF599#32
  | 52 => 0xBF12D5E8#32
  | 53 => 0x3F659974#32
  | 54 => 0xBF7FC1A0#32
  | 55 => 0x3F5ADB81#32
  | 56 => 0xBF000000#32
  | 57 => 0x3CB2B521#32
  | 58 => 0x3EEC6A50#32
  | 59 => 0xBF54DB31#32
  | 60 => 0x3F7F069E#32
  | 61 => 0xBF6A51DA#32
  | 62 => 0x3F1BD7CA#32
  | 63 => 0xBE1BC63C#32
  | 64 => 0xBEAF1D44#32
  | 65 => 0x3F407893#32
  | 66 => 0xBF79EE89#32
  | 67 => 0x3F75C5D4#32
  | 68 => 0xBF3504F3#32
  | 69 => 0x3E8F45C0#32
  | 70 => 0x3E5DA259#32
  | 71 => 0xBF28CAE3#32
  | 72 => 0x3F708FB2#32
  | 73 => 0xBF7D0543#32
  | 74 => 0x3F4B1934#32
  | 75 => 0xBECE34D0#32
  | 76 => 0xBDB27EB6#32
  | 77 => 0x3F0E39DA#32
  | 78 => 0xBF631324#32
  | 79 => 0x3F7FF067#32
  | 80 => 0xBF5DB3D7#32
  | 81 => 0x3F04CE53#32
  | 82 => 0xBD32AA3E#32
  | 83 => 0xBEE273AA#32
  | 84 => 0x3F51B3F3#32
  | 85 => 0xBF7E7A7A#32
  | 86 => 0x3F6C835E#32
  | 87 => 0xBF203C85#32
  | 88 => 0x3E31D0D4#32
  | 89 => 0x3EA493B7#32
  | 90 => 0xBF3CBE35#32
  | 91 => 0x3F78A9E0#32
  | 92 => 0xBF7746EA#32
  | 93 => 0x3F38ECD8#32
  | 94 => 0xBE99F61C#32
  | 95 => 0xBE47C5C2#32
  | 96 => 0x3F248DBB#32
  | 97 => 0xBF6E9811#32
  | 98 => 0x3F7DCF55#32
  | 99 => 0xBF4E7327#32
  | 100 => 0x3ED8616C#32
  | 101 => 0x3D85F213#32
  | 102 => 0xBF098C78#32
  | 103 => 0x3F60712A#32
  | 104 => 0xBF800000#32
  | 105 => 0x3F60712A#32
  | 106 => 0xBF098C78#32
  | 107 => 0x3D85F213#32
  | 108 => 0x3ED8616C#32
  | 109 => 0xBF4E7327#32
  | 110 => 0x3F7DCF55#32
  | 111 => 0xBF6E9811#32
  | 112 => 0x3F248DBB#32
  | 113 => 0xBE47C5C2#32
  | 114 => 0xBE99F61C#32
  | 115 => 0x3F38ECD8#32
  | 116 => 0xBF7746EA#32
  | 117 => 0x3F78A9E0#32
  | 118 => 0xBF3CBE35#32
  | 119 => 0x3EA493B7#32
  | 120 => 0x3E31D0D4#32
  | 121 => 0xBF203C85#32
  | 122 => 0x3F6C835E#32
  | 123 => 0xBF7E7A7A#32
  | 124 => 0x3F51B3F3#32
  | 125 => 0xBEE273AA#32
  | 126 => 0xBD32AA3E#32
  | 127 => 0x3F04CE53#32
  | _ => 0#32

noncomputable abbrev lit1t0_273 (i : Nat) : BitVec 32 := match i % 128 with
  | 0 => 0xBF5DB3D7#32
  | 1 => 0x3F7FF067#32
  | 2 => 0xBF631324#32
  | 3 => 0x3F0E39DA#32
  | 4 => 0xBDB27EB6#32
  | 5 => 0xBECE34D0#32
  | 6 => 0x3F4B1934#32
  | 7 => 0xBF7D0543#32
  | 8 => 0x3F708FB2#32
  | 9 => 0xBF28CAE3#32
  | 10 => 0x3E5DA259#32
  | 11 => 0x3E8F45C0#32
  | 12 => 0xBF3504F3#32
  | 13 => 0x3F75C5D4#32
  | 14 => 0xBF79EE89#32
  | 15 => 0x3F407893#32
  | 16 => 0xBEAF1D44#32
  | 17 => 0xBE1BC63C#32
  | 18 => 0x3F1BD7CA#32
  | 19 => 0xBF6A51DA#32
  | 20 => 0x3F7F069E#32
  | 21 => 0xBF54DB31#32
  | 22 => 0x3EEC6A50#32
  | 23 => 0x3CB2B521#32
  | 24 => 0xBF000000#32
  | 25 => 0x3F5ADB81#32
  | 26 => 0xBF7FC1A0#32
  | 27 => 0x3F659974#32
  | 28 => 0xBF12D5E8#32
  | 29 => 0x3DDEF599#32
  | 30 => 0x3EC3EF15#32
  | 31 => 0xBF47A682#32
  | 32 => 0x3F7C1C5C#32
  | 33 => 0xBF726A03#32
  | 34 => 0x3F2CF37B#32
  | 35 => 0xBE7363EE#32
  | 36 => 0xBE8483EE#32
  | 37 => 0x3F310700#32
  | 38 => 0xBF7426CB#32
  | 39 => 0x3F7B14BE#32
  | 40 => 0xBF441B7D#32
  | 41 => 0x3EB9917B#32
  | 42 => 0x3E05A8A8#32
  | 43 => 0xBF176012#32
  | 44 => 0x3F6803CA#32
  | 45 => 0xBF7F73AF#32
  | 46 => 0x3F57E880#32
  | 47 => 0xBEF64429#32
  | 48 => 0xA50D3132#32
  | 49 => 0x3EF64429#32
  | 50 => 0xBF57E880#32
  | 51 => 0x3F7F73AF#32
  | 52 => 0xBF6803CA#32
  | 53 => 0x3F176012#32
  | 54 => 0xBE05A8A8#32
  | 55 => 0xBEB9917B#32
  | 56 => 0x3F441B7D#32
  | 57 => 0xBF7B14BE#32
  | 58 => 0x3F7426CB#32
  | 59 => 0xBF310700#32
  | 60 => 0x3E8483EE#32
  | 61 => 0x3E7363EE#32
  | 62 => 0xBF2CF37B#32
  | 63 => 0x3F726A03#32
  | 64 => 0xBF7C1C5C#32
  | 65 => 0x3F47A682#32
  | 66 => 0xBEC3EF15#32
  | 67 => 0xBDDEF599#32
  | 68 => 0x3F12D5E8#32
  | 69 => 0xBF659974#32
  | 70 => 0x3F7FC1A0#32
  | 71 => 0xBF5ADB81#32
  | 72 => 0x3F000000#32
  | 73 => 0xBCB2B521#32
  | 74 => 0xBEEC6A50#32
  | 75 => 0x3F54DB31#32
  | 76 => 0xBF7F069E#32
  | 77 => 0x3F6A51DA#32
  | 78 => 0xBF1BD7CA#32
  | 79 => 0x3E1BC63C#32
  | 80 => 0x3EAF1D44#32
  | 81 => 0xBF407893#32
  | 82 => 0x3F79EE89#32
  | 83 => 0xBF75C5D4#32
  | 84 => 0x3F3504F3#32
  | 85 => 0xBE8F45C0#32
  | 86 => 0xBE5DA259#32
  | 87 => 0x3F28CAE3#32
  | 88 => 0xBF708FB2#32
  | 89 => 0x3F7D0543#32
  | 90 => 0xBF4B1934#32
  | 91 => 0x3ECE34D0#32
  | 92 => 0x3DB27EB6#32
  | 93 => 0xBF0E39DA#32
  | 94 => 0x3F631324#32
  | 95 => 0xBF7FF067#32
  | 96 => 0x3F5DB3D7#32
  | 97 => 0xBF04CE53#32
  | 98 => 0x3D32AA3E#32
  | 99 => 0x3EE273AA#32
  | 100 => 0xBF51B3F3#32
  | 101 => 0x3F7E7A7A#32
  | 102 => 0xBF6C835E#32
  | 103 => 0x3F203C85#32
  | 104 => 0xBE31D0D4#32
  | 105 => 0xBEA493B7#32
  | 106 => 0x3F3CBE35#32
  | 107 => 0xBF78A9E0#32
  | 108 => 0x3F7746EA#32
  | 109 => 0xBF38ECD8#32
  | 110 => 0x3E99F61C#32
  | 111 => 0x3E47C5C2#32
  | 112 => 0xBF248DBB#32
  | 113 => 0x3F6E9811#32
  | 114 => 0xBF7DCF55#32
  | 115 => 0x3F4E7327#32
  | 116 => 0xBED8616C#32
  | 117 => 0xBD85F213#32
  | 118 => 0x3F098C78#32
  | 119 => 0xBF60712A#32
  | 120 => 0x3F800000#32
  | 121 => 0xBF60712A#32
  | 122 => 0x3F098C78#32
  | 123 => 0xBD85F213#32
  | 124 => 0xBED8616C#32
  | 125 => 0x3F4E7327#32
  | 126 => 0xBF7DCF55#32
  | 127 => 0x3F6E9811#32
  | _ => 0#32

noncomputable abbrev lit1t0_274 (i : Nat) : BitVec 32 := match i % 128 with
  | 0 => 0xBF248DBB#32
  | 1 => 0x3E47C5C2#32
  | 2 => 0x3E99F61C#32
  | 3 => 0xBF38ECD8#32
  | 4 => 0x3F7746EA#32
  | 5 => 0xBF78A9E0#32
  | 6 => 0x3F3CBE35#32
  | 7 => 0xBEA493B7#32
  | 8 => 0xBE31D0D4#32
  | 9 => 0x3F203C85#32
  | 10 => 0xBF6C835E#32
  | 11 => 0x3F7E7A7A#32
  | 12 => 0xBF51B3F3#32
  | 13 => 0x3EE273AA#32
  | 14 => 0x3D32AA3E#32
  | 15 => 0xBF04CE53#32
  | 16 => 0x3F5DB3D7#32
  | 17 => 0xBF7FF067#32
  | 18 => 0x3F631324#32
  | 19 => 0xBF0E39DA#32
  | 20 => 0x3DB27EB6#32
  | 21 => 0x3ECE34D0#32
  | 22 => 0xBF4B1934#32
  | 23 => 0x3F7D0543#32
  | 24 => 0xBF708FB2#32
  | 25 => 0x3F28CAE3#32
  | 26 => 0xBE5DA259#32
  | 27 => 0xBE8F45C0#32
  | 28 => 0x3F3504F3#32
  | 29 => 0xBF75C5D4#32
  | 30 => 0x3F79EE89#32
  | 31 => 0xBF407893#32
  | 32 => 0x3EAF1D44#32
  | 33 => 0x3E1BC63C#32
  | 34 => 0xBF1BD7CA#32
  | 35 => 0x3F6A51DA#32
  | 36 => 0xBF7F069E#32
  | 37 => 0x3F54DB31#32
  | 38 => 0xBEEC6A50#32
  | 39 => 0xBCB2B521#32
  | 40 => 0x3F000000#32
  | 41 => 0xBF5ADB81#32
  | 42 => 0x3F7FC1A0#32
  | 43 => 0xBF659974#32
  | 44 => 0x3F12D5E8#32
  | 45 => 0xBDDEF599#32
  | 46 => 0xBEC3EF15#32
  | 47 => 0x3F47A682#32
  | 48 => 0xBF7C1C5C#32
  | 49 => 0x3F726A03#32
  | 50 => 0xBF2CF37B#32
  | 51 => 0x3E7363EE#32
  | 52 => 0x3E8483EE#32
  | 53 => 0xBF310700#32
  | 54 => 0x3F7426CB#32
  | 55 => 0xBF7B14BE#32
  | 56 => 0x3F441B7D#32
  | 57 => 0xBEB9917B#32
  | 58 => 0xBE05A8A8#32
  | 59 => 0x3F176012#32
  | 60 => 0xBF6803CA#32
  | 61 => 0x3F7F73AF#32
  | 62 => 0xBF57E880#32
  | 63 => 0x3EF64429#32
  | 64 => 0x80000000#32
  | 65 => 0xBEEC6A50#32
  | 66 => 0x3F51B3F3#32
  | 67 => 0xBF7DCF55#32
  | 68 => 0x3F708FB2#32
  | 69 => 0xBF2CF37B#32
  | 70 => 0x3E8483EE#32
  | 71 => 0x3E5DA259#32
  | 72 => 0xBF248DBB#32
  | 73 => 0x3F6C835E#32
  | 74 => 0xBF7F069E#32
  | 75 => 0x3F57E880#32
  | 76 => 0xBF000000#32
  | 77 => 0x3D32AA3E#32
  | 78 => 0x3ED8616C#32
  | 79 => 0xBF4B1934#32
  | 80 => 0x3F7C1C5C#32
  | 81 => 0xBF7426CB#32
  | 82 => 0x3F3504F3#32
  | 83 => 0xBE99F61C#32
  | 84 => 0xBE31D0D4#32
  | 85 => 0x3F1BD7CA#32
  | 86 => 0xBF6803CA#32
  | 87 => 0x3F7FC1A0#32
  | 88 => 0xBF5DB3D7#32
  | 89 => 0x3F098C78#32
  | 90 => 0xBDB27EB6#32
  | 91 => 0xBEC3EF15#32
  | 92 => 0x3F441B7D#32
  | 93 => 0xBF79EE89#32
  | 94 => 0x3F7746EA#32
  | 95 => 0xBF3CBE35#32
  | 96 => 0x3EAF1D44#32
  | 97 => 0x3E05A8A8#32
  | 98 => 0xBF12D5E8#32
  | 99 => 0x3F631324#32
  | 100 => 0xBF800000#32
  | 101 => 0x3F631324#32
  | 102 => 0xBF12D5E8#32
  | 103 => 0x3E05A8A8#32
  | 104 => 0x3EAF1D44#32
  | 105 => 0xBF3CBE35#32
  | 106 => 0x3F7746EA#32
  | 107 => 0xBF79EE89#32
  | 108 => 0x3F441B7D#32
  | 109 => 0xBEC3EF15#32
  | 110 => 0xBDB27EB6#32
  | 111 => 0x3F098C78#32
  | 112 => 0xBF5DB3D7#32
  | 113 => 0x3F7FC1A0#32
  | 114 => 0xBF6803CA#32
  | 115 => 0x3F1BD7CA#32
  | 116 => 0xBE31D0D4#32
  | 117 => 0xBE99F61C#32
  | 118 => 0x3F3504F3#32
  | 119 => 0xBF7426CB#32
  | 120 => 0x3F7C1C5C#32
  | 121 => 0xBF4B1934#32
  | 122 => 0x3ED8616C#32
  | 123 => 0x3D32AA3E#32
  | 124 => 0xBF000000#32
  | 125 => 0x3F57E880#32
  | 126 => 0xBF7F069E#32
  | 127 => 0x3F6C835E#32
  | _ => 0#32

noncomputable abbrev lit1t0_275 (i : Nat) : BitVec 32 := match i % 128 with
  | 0 => 0xBF248DBB#32
  | 1 => 0x3E5DA259#32
  | 2 => 0x3E8483EE#32
  | 3 => 0xBF2CF37B#32
  | 4 => 0x3F708FB2#32
  | 5 => 0xBF7DCF55#32
  | 6 => 0x3F51B3F3#32
  | 7 => 0xBEEC6A50#32
  | 8 => 0xA50D3132#32
  | 9 => 0x3EEC6A50#32
  | 10 => 0xBF51B3F3#32
  | 11 => 0x3F7DCF55#32
  | 12 => 0xBF708FB2#32
  | 13 => 0x3F2CF37B#32
  | 14 => 0xBE8483EE#32
  | 15 => 0xBE5DA259#32
  | 16 => 0x3F248DBB#32
  | 17 => 0xBF6C835E#32
  | 18 => 0x3F7F069E#32
  | 19 => 0xBF57E880#32
  | 20 => 0x3F000000#32
  | 21 => 0xBD32AA3E#32
  | 22 => 0xBED8616C#32
  | 23 => 0x3F4B1934#32
  | 24 => 0xBF7C1C5C#32
  | 25 => 0x3F7426CB#32
  | 26 => 0xBF3504F3#32
  | 27 => 0x3E99F61C#32
  | 28 => 0x3E31D0D4#32
  | 29 => 0xBF1BD7CA#32
  | 30 => 0x3F6803CA#32
  | 31 => 0xBF7FC1A0#32
  | 32 => 0x3F5DB3D7#32
  | 33 => 0xBF098C78#32
  | 34 => 0x3DB27EB6#32
  | 35 => 0x3EC3EF15#32
  | 36 => 0xBF441B7D#32
  | 37 => 0x3F79EE89#32
  | 38 => 0xBF7746EA#32
  | 39 => 0x3F3CBE35#32
  | 40 => 0xBEAF1D44#32
  | 41 => 0xBE05A8A8#32
  | 42 => 0x3F12D5E8#32
  | 43 => 0xBF631324#32
  | 44 => 0x3F800000#32
  | 45 => 0xBF631324#32
  | 46 => 0x3F12D5E8#32
  | 47 => 0xBE05A8A8#32
  | 48 => 0xBEAF1D44#32
  | 49 => 0x3F3CBE35#32
  | 50 => 0xBF7746EA#32
  | 51 => 0x3F79EE89#32
  | 52 => 0xBF441B7D#32
  | 53 => 0x3EC3EF15#32
  | 54 => 0x3DB27EB6#32
  | 55 => 0xBF098C78#32
  | 56 => 0x3F5DB3D7#32
  | 57 => 0xBF7FC1A0#32
  | 58 => 0x3F6803CA#32
  | 59 => 0xBF1BD7CA#32
  | 60 => 0x3E31D0D4#32
  | 61 => 0x3E99F61C#32
  | 62 => 0xBF3504F3#32
  | 63 => 0x3F7426CB#32
  | 64 => 0xBF7C1C5C#32
  | 65 => 0x3F4B1934#32
  | 66 => 0xBED8616C#32
  | 67 => 0xBD32AA3E#32
  | 68 => 0x3F000000#32
  | 69 => 0xBF57E880#32
  | 70 => 0x3F7F069E#32
  | 71 => 0xBF6C835E#32
  | 72 => 0x3F248DBB#32
  | 73 => 0xBE5DA259#32
  | 74 => 0xBE8483EE#32
  | 75 => 0x3F2CF37B#32
  | 76 => 0xBF708FB2#32
  | 77 => 0x3F7DCF55#32
  | 78 => 0xBF51B3F3#32
  | 79 => 0x3EEC6A50#32
  | 80 => 0x80000000#32
  | 81 => 0xBEEC6A50#32
  | 82 => 0x3F51B3F3#32
  | 83 => 0xBF7DCF55#32
  | 84 => 0x3F708FB2#32
  | 85 => 0xBF2CF37B#32
  | 86 => 0x3E8483EE#32
  | 87 => 0x3E5DA259#32
  | 88 => 0xBF248DBB#32
  | 89 => 0x3F6C835E#32
  | 90 => 0xBF7F069E#32
  | 91 => 0x3F57E880#32
  | 92 => 0xBF000000#32
  | 93 => 0x3D32AA3E#32
  | 94 => 0x3ED8616C#32
  | 95 => 0xBF4B1934#32
  | 96 => 0x3F7C1C5C#32
  | 97 => 0xBF7426CB#32
  | 98 => 0x3F3504F3#32
  | 99 => 0xBE99F61C#32
  | 100 => 0xBE31D0D4#32
  | 101 => 0x3F1BD7CA#32
  | 102 => 0xBF6803CA#32
  | 103 => 0x3F7FC1A0#32
  | 104 => 0xBF5DB3D7#32
  | 105 => 0x3F098C78#32
  | 106 => 0xBDB27EB6#32
  | 107 => 0xBEC3EF15#32
  | 108 => 0x3F441B7D#32
  | 109 => 0xBF79EE89#32
  | 110 => 0x3F7746EA#32
  | 111 => 0xBF3CBE35#32
  | 112 => 0x3EAF1D44#32
  | 113 => 0x3E05A8A8#32
  | 114 => 0xBF12D5E8#32
  | 115 => 0x3F631324#32
  | 116 => 0xBF800000#32
  | 117 => 0x3F631324#32
  | 118 => 0xBF12D5E8#32
  | 119 => 0x3E05A8A8#32
  | 120 => 0x3EAF1D44#32
  | 121 => 0xBF3CBE35#32
  | 122 => 0x3F7746EA#32
  | 123 => 0xBF79EE89#32
  | 124 => 0x3F441B7D#32
  | 125 => 0xBEC3EF15#32
  | 126 => 0xBDB27EB6#32
  | 127 => 0x3F098C78#32
  | _ => 0#32

noncomputable abbrev lit1t0_276 (i : Nat) : BitVec 32 := match i % 128 with
  | 0 => 0xBF5DB3D7#32
  | 1 => 0x3F7FC1A0#32
  | 2 => 0xBF6803CA#32
  | 3 => 0x3F1BD7CA#32
  | 4 => 0xBE31D0D4#32
  | 5 => 0xBE99F61C#32
  | 6 => 0x3F3504F3#32
  | 7 => 0xBF7426CB#32
  | 8 => 0x3F7C1C5C#32
  | 9 => 0xBF4B1934#32
  | 10 => 0x3ED8616C#32
  | 11 => 0x3D32AA3E#32
  | 12 => 0xBF000000#32
  | 13 => 0x3F57E880#32
  | 14 => 0xBF7F069E#32
  | 15 => 0x3F6C835E#32
  | 16 => 0xBF248DBB#32
  | 17 => 0x3E5DA259#32
  | 18 => 0x3E8483EE#32
  | 19 => 0xBF2CF37B#32
  | 20 => 0x3F708FB2#32
  | 21 => 0xBF7DCF55#32
  | 22 => 0x3F51B3F3#32
  | 23 => 0xBEEC6A50#32
  | 24 => 0xA50D3132#32
  | 25 => 0x3EEC6A50#32
  | 26 => 0xBF51B3F3#32
  | 27 => 0x3F7DCF55#32
  | 28 => 0xBF708FB2#32
  | 29 => 0x3F2CF37B#32
  | 30 => 0xBE8483EE#32
  | 31 => 0xBE5DA259#32
  | 32 => 0x3F248DBB#32
  | 33 => 0xBF6C835E#32
  | 34 => 0x3F7F069E#32
  | 35 => 0xBF57E880#32
  | 36 => 0x3F000000#32
  | 37 => 0xBD32AA3E#32
  | 38 => 0xBED8616C#32
  | 39 => 0x3F4B1934#32
  | 40 => 0xBF7C1C5C#32
  | 41 => 0x3F7426CB#32
  | 42 => 0xBF3504F3#32
  | 43 => 0x3E99F61C#32
  | 44 => 0x3E31D0D4#32
  | 45 => 0xBF1BD7CA#32
  | 46 => 0x3F6803CA#32
  | 47 => 0xBF7FC1A0#32
  | 48 => 0x3F5DB3D7#32
  | 49 => 0xBF098C78#32
  | 50 => 0x3DB27EB6#32
  | 51 => 0x3EC3EF15#32
  | 52 => 0xBF441B7D#32
  | 53 => 0x3F79EE89#32
  | 54 => 0xBF7746EA#32
  | 55 => 0x3F3CBE35#32
  | 56 => 0xBEAF1D44#32
  | 57 => 0xBE05A8A8#32
  | 58 => 0x3F12D5E8#32
  | 59 => 0xBF631324#32
  | 60 => 0x3F800000#32
  | 61 => 0xBF631324#32
  | 62 => 0x3F12D5E8#32
  | 63 => 0xBE05A8A8#32
  | 64 => 0xBEAF1D44#32
  | 65 => 0x3F3CBE35#32
  | 66 => 0xBF7746EA#32
  | 67 => 0x3F79EE89#32
  | 68 => 0xBF441B7D#32
  | 69 => 0x3EC3EF15#32
  | 70 => 0x3DB27EB6#32
  | 71 => 0xBF098C78#32
  | 72 => 0x3F5DB3D7#32
  | 73 => 0xBF7FC1A0#32
  | 74 => 0x3F6803CA#32
  | 75 => 0xBF1BD7CA#32
  | 76 => 0x3E31D0D4#32
  | 77 => 0x3E99F61C#32
  | 78 => 0xBF3504F3#32
  | 79 => 0x3F7426CB#32
  | 80 => 0xBF7C1C5C#32
  | 81 => 0x3F4B1934#32
  | 82 => 0xBED8616C#32
  | 83 => 0xBD32AA3E#32
  | 84 => 0x3F000000#32
  | 85 => 0xBF57E880#32
  | 86 => 0x3F7F069E#32
  | 87 => 0xBF6C835E#32
  | 88 => 0x3F248DBB#32
  | 89 => 0xBE5DA259#32
  | 90 => 0xBE8483EE#32
  | 91 => 0x3F2CF37B#32
  | 92 => 0xBF708FB2#32
  | 93 => 0x3F7DCF55#32
  | 94 => 0xBF51B3F3#32
  | 95 => 0x3EEC6A50#32
  | 96 => 0x80000000#32
  | 97 => 0xBEE273AA#32
  | 98 => 0x3F4B1934#32
  | 99 => 0xBF7B14BE#32
  | 100 => 0x3F7746EA#32
  | 101 => 0xBF407893#32
  | 102 => 0x3EC3EF15#32
  | 103 => 0x3D85F213#32
  | 104 => 0xBF000000#32
  | 105 => 0x3F54DB31#32
  | 106 => 0xBF7DCF55#32
  | 107 => 0x3F726A03#32
  | 108 => 0xBF3504F3#32
  | 109 => 0x3EA493B7#32
  | 110 => 0x3E05A8A8#32
  | 111 => 0xBF0E39DA#32
  | 112 => 0x3F5DB3D7#32
  | 113 => 0xBF7F73AF#32
  | 114 => 0x3F6C835E#32
  | 115 => 0xBF28CAE3#32
  | 116 => 0x3E8483EE#32
  | 117 => 0x3E47C5C2#32
  | 118 => 0xBF1BD7CA#32
  | 119 => 0x3F659974#32
  | 120 => 0xBF800000#32
  | 121 => 0x3F659974#32
  | 122 => 0xBF1BD7CA#32
  | 123 => 0x3E47C5C2#32
  | 124 => 0x3E8483EE#32
  | 125 => 0xBF28CAE3#32
  | 126 => 0x3F6C835E#32
  | 127 => 0xBF7F73AF#32
  | _ => 0#32

noncomputable abbrev lit1t0_277 (i : Nat) : BitVec 32 := match i % 128 with
  | 0 => 0x3F5DB3D7#32
  | 1 => 0xBF0E39DA#32
  | 2 => 0x3E05A8A8#32
  | 3 => 0x3EA493B7#32
  | 4 => 0xBF3504F3#32
  | 5 => 0x3F726A03#32
  | 6 => 0xBF7DCF55#32
  | 7 => 0x3F54DB31#32
  | 8 => 0xBF000000#32
  | 9 => 0x3D85F213#32
  | 10 => 0x3EC3EF15#32
  | 11 => 0xBF407893#32
  | 12 => 0x3F7746EA#32
  | 13 => 0xBF7B14BE#32
  | 14 => 0x3F4B1934#32
  | 15 => 0xBEE273AA#32
  | 16 => 0xA50D3132#32
  | 17 => 0x3EE273AA#32
  | 18 => 0xBF4B1934#32
  | 19 => 0x3F7B14BE#32
  | 20 => 0xBF7746EA#32
  | 21 => 0x3F407893#32
  | 22 => 0xBEC3EF15#32
  | 23 => 0xBD85F213#32
  | 24 => 0x3F000000#32
  | 25 => 0xBF54DB31#32
  | 26 => 0x3F7DCF55#32
  | 27 => 0xBF726A03#32
  | 28 => 0x3F3504F3#32
  | 29 => 0xBEA493B7#32
  | 30 => 0xBE05A8A8#32
  | 31 => 0x3F0E39DA#32
  | 32 => 0xBF5DB3D7#32
  | 33 => 0x3F7F73AF#32
  | 34 => 0xBF6C835E#32
  | 35 => 0x3F28CAE3#32
  | 36 => 0xBE8483EE#32
  | 37 => 0xBE47C5C2#32
  | 38 => 0x3F1BD7CA#32
  | 39 => 0xBF659974#32
  | 40 => 0x3F800000#32
  | 41 => 0xBF659974#32
  | 42 => 0x3F1BD7CA#32
  | 43 => 0xBE47C5C2#32
  | 44 => 0xBE8483EE#32
  | 45 => 0x3F28CAE3#32
  | 46 => 0xBF6C835E#32
  | 47 => 0x3F7F73AF#32
  | 48 => 0xBF5DB3D7#32
  | 49 => 0x3F0E39DA#32
  | 50 => 0xBE05A8A8#32
  | 51 => 0xBEA493B7#32
  | 52 => 0x3F3504F3#32
  | 53 => 0xBF726A03#32
  | 54 => 0x3F7DCF55#32
  | 55 => 0xBF54DB31#32
  | 56 => 0x3F000000#32
  | 57 => 0xBD85F213#32
  | 58 => 0xBEC3EF15#32
  | 59 => 0x3F407893#32
  | 60 => 0xBF7746EA#32
  | 61 => 0x3F7B14BE#32
  | 62 => 0xBF4B1934#32
  | 63 => 0x3EE273AA#32
  | 64 => 0x80000000#32
  | 65 => 0xBEE273AA#32
  | 66 => 0x3F4B1934#32
  | 67 => 0xBF7B14BE#32
  | 68 => 0x3F7746EA#32
  | 69 => 0xBF407893#32
  | 70 => 0x3EC3EF15#32
  | 71 => 0x3D85F213#32
  | 72 => 0xBF000000#32
  | 73 => 0x3F54DB31#32
  | 74 => 0xBF7DCF55#32
  | 75 => 0x3F726A03#32
  | 76 => 0xBF3504F3#32
  | 77 => 0x3EA493B7#32
  | 78 => 0x3E05A8A8#32
  | 79 => 0xBF0E39DA#32
  | 80 => 0x3F5DB3D7#32
  | 81 => 0xBF7F73AF#32
  | 82 => 0x3F6C835E#32
  | 83 => 0xBF28CAE3#32
  | 84 => 0x3E8483EE#32
  | 85 => 0x3E47C5C2#32
  | 86 => 0xBF1BD7CA#32
  | 87 => 0x3F659974#32
  | 88 => 0xBF800000#32
  | 89 => 0x3F659974#32
  | 90 => 0xBF1BD7CA#32
  | 91 => 0x3E47C5C2#32
  | 92 => 0x3E8483EE#32
  | 93 => 0xBF28CAE3#32
  | 94 => 0x3F6C835E#32
  | 95 => 0xBF7F73AF#32
  | 96 => 0x3F5DB3D7#32
  | 97 => 0xBF0E39DA#32
  | 98 => 0x3E05A8A8#32
  | 99 => 0x3EA493B7#32
  | 100 => 0xBF3504F3#32
  | 101 => 0x3F726A03#32
  | 102 => 0xBF7DCF55#32
  | 103 => 0x3F54DB31#32
  | 104 => 0xBF000000#32
  | 105 => 0x3D85F213#32
  | 106 => 0x3EC3EF15#32
  | 107 => 0xBF407893#32
  | 108 => 0x3F7746EA#32
  | 109 => 0xBF7B14BE#32
  | 110 => 0x3F4B1934#32
  | 111 => 0xBEE273AA#32
  | 112 => 0xA50D3132#32
  | 113 => 0x3EE273AA#32
  | 114 => 0xBF4B1934#32
  | 115 => 0x3F7B14BE#32
  | 116 => 0xBF7746EA#32
  | 117 => 0x3F407893#32
  | 118 => 0xBEC3EF15#32
  | 119 => 0xBD85F213#32
  | 120 => 0x3F000000#32
  | 121 => 0xBF54DB31#32
  | 122 => 0x3F7DCF55#32
  | 123 => 0xBF726A03#32
  | 124 => 0x3F3504F3#32
  | 125 => 0xBEA493B7#32
  | 126 => 0xBE05A8A8#32
  | 127 => 0x3F0E39DA#32
  | _ => 0#32

noncomputable abbrev lit1t0_278 (i : Nat) : BitVec 32 := match i % 128 with
  | 0 => 0xBF5DB3D7#32
  | 1 => 0x3F7F73AF#32
  | 2 => 0xBF6C835E#32
  | 3 => 0x3F28CAE3#32
  | 4 => 0xBE8483EE#32
  | 5 => 0xBE47C5C2#32
  | 6 => 0x3F1BD7CA#32
  | 7 => 0xBF659974#32
  | 8 => 0x3F800000#32
  | 9 => 0xBF659974#32
  | 10 => 0x3F1BD7CA#32
  | 11 => 0xBE47C5C2#32
  | 12 => 0xBE8483EE#32
  | 13 => 0x3F28CAE3#32
  | 14 => 0xBF6C835E#32
  | 15 => 0x3F7F73AF#32
  | 16 => 0xBF5DB3D7#32
  | 17 => 0x3F0E39DA#32
  | 18 => 0xBE05A8A8#32
  | 19 => 0xBEA493B7#32
  | 20 => 0x3F3504F3#32
  | 21 => 0xBF726A03#32
  | 22 => 0x3F7DCF55#32
  | 23 => 0xBF54DB31#32
  | 24 => 0x3F000000#32
  | 25 => 0xBD85F213#32
  | 26 => 0xBEC3EF15#32
  | 27 => 0x3F407893#32
  | 28 => 0xBF7746EA#32
  | 29 => 0x3F7B14BE#32
  | 30 => 0xBF4B1934#32
  | 31 => 0x3EE273AA#32
  | 32 => 0x80000000#32
  | 33 => 0xBEE273AA#32
  | 34 => 0x3F4B1934#32
  | 35 => 0xBF7B14BE#32
  | 36 => 0x3F7746EA#32
  | 37 => 0xBF407893#32
  | 38 => 0x3EC3EF15#32
  | 39 => 0x3D85F213#32
  | 40 => 0xBF000000#32
  | 41 => 0x3F54DB31#32
  | 42 => 0xBF7DCF55#32
  | 43 => 0x3F726A03#32
  | 44 => 0xBF3504F3#32
  | 45 => 0x3EA493B7#32
  | 46 => 0x3E05A8A8#32
  | 47 => 0xBF0E39DA#32
  | 48 => 0x3F5DB3D7#32
  | 49 => 0xBF7F73AF#32
  | 50 => 0x3F6C835E#32
  | 51 => 0xBF28CAE3#32
  | 52 => 0x3E8483EE#32
  | 53 => 0x3E47C5C2#32
  | 54 => 0xBF1BD7CA#32
  | 55 => 0x3F659974#32
  | 56 => 0xBF800000#32
  | 57 => 0x3F659974#32
  | 58 => 0xBF1BD7CA#32
  | 59 => 0x3E47C5C2#32
  | 60 => 0x3E8483EE#32
  | 61 => 0xBF28CAE3#32
  | 62 => 0x3F6C835E#32
  | 63 => 0xBF7F73AF#32
  | 64 => 0x3F5DB3D7#32
  | 65 => 0xBF0E39DA#32
  | 66 => 0x3E05A8A8#32
  | 67 => 0x3EA493B7#32
  | 68 => 0xBF3504F3#32
  | 69 => 0x3F726A03#32
  | 70 => 0xBF7DCF55#32
  | 71 => 0x3F54DB31#32
  | 72 => 0xBF000000#32
  | 73 => 0x3D85F213#32
  | 74 => 0x3EC3EF15#32
  | 75 => 0xBF407893#32
  | 76 => 0x3F7746EA#32
  | 77 => 0xBF7B14BE#32
  | 78 => 0x3F4B1934#32
  | 79 => 0xBEE273AA#32
  | 80 => 0xA50D3132#32
  | 81 => 0x3EE273AA#32
  | 82 => 0xBF4B1934#32
  | 83 => 0x3F7B14BE#32
  | 84 => 0xBF7746EA#32
  | 85 => 0x3F407893#32
  | 86 => 0xBEC3EF15#32
  | 87 => 0xBD85F213#32
  | 88 => 0x3F000000#32
  | 89 => 0xBF54DB31#32
  | 90 => 0x3F7DCF55#32
  | 91 => 0xBF726A03#32
  | 92 => 0x3F3504F3#32
  | 93 => 0xBEA493B7#32
  | 94 => 0xBE05A8A8#32
  | 95 => 0x3F0E39DA#32
  | 96 => 0xBF5DB3D7#32
  | 97 => 0x3F7F73AF#32
  | 98 => 0xBF6C835E#32
  | 99 => 0x3F28CAE3#32
  | 100 => 0xBE8483EE#32
  | 101 => 0xBE47C5C2#32
  | 102 => 0x3F1BD7CA#32
  | 103 => 0xBF659974#32
  | 104 => 0x3F800000#32
  | 105 => 0xBF659974#32
  | 106 => 0x3F1BD7CA#32
  | 107 => 0xBE47C5C2#32
  | 108 => 0xBE8483EE#32
  | 109 => 0x3F28CAE3#32
  | 110 => 0xBF6C835E#32
  | 111 => 0x3F7F73AF#32
  | 112 => 0xBF5DB3D7#32
  | 113 => 0x3F0E39DA#32
  | 114 => 0xBE05A8A8#32
  | 115 => 0xBEA493B7#32
  | 116 => 0x3F3504F3#32
  | 117 => 0xBF726A03#32
  | 118 => 0x3F7DCF55#32
  | 119 => 0xBF54DB31#32
  | 120 => 0x3F000000#32
  | 121 => 0xBD85F213#32
  | 122 => 0xBEC3EF15#32
  | 123 => 0x3F407893#32
  | 124 => 0xBF7746EA#32
  | 125 => 0x3F7B14BE#32
  | 126 => 0xBF4B1934#32
  | 127 => 0x3EE273AA#32
  | _ => 0#32

noncomputable abbrev lit1t0_279 (i : Nat) : BitVec 32 := match i % 128 with
  | 0 => 0x80000000#32
  | 1 => 0xBED8616C#32
  | 2 => 0x3F441B7D#32
  | 3 => 0xBF7746EA#32
  | 4 => 0x3F7C1C5C#32
  | 5 => 0xBF51B3F3#32
  | 6 => 0x3F000000#32
  | 7 => 0xBDB27EB6#32
  | 8 => 0xBEAF1D44#32
  | 9 => 0x3F3504F3#32
  | 10 => 0xBF708FB2#32
  | 11 => 0x3F7F069E#32
  | 12 => 0xBF5DB3D7#32
  | 13 => 0x3F12D5E8#32
  | 14 => 0xBE31D0D4#32
  | 15 => 0xBE8483EE#32
  | 16 => 0x3F248DBB#32
  | 17 => 0xBF6803CA#32
  | 18 => 0x3F800000#32
  | 19 => 0xBF6803CA#32
  | 20 => 0x3F248DBB#32
  | 21 => 0xBE8483EE#32
  | 22 => 0xBE31D0D4#32
  | 23 => 0x3F12D5E8#32
  | 24 => 0xBF5DB3D7#32
  | 25 => 0x3F7F069E#32
  | 26 => 0xBF708FB2#32
  | 27 => 0x3F3504F3#32
  | 28 => 0xBEAF1D44#32
  | 29 => 0xBDB27EB6#32
  | 30 => 0x3F000000#32
  | 31 => 0xBF51B3F3#32
  | 32 => 0x3F7C1C5C#32
  | 33 => 0xBF7746EA#32
  | 34 => 0x3F441B7D#32
  | 35 => 0xBED8616C#32
  | 36 => 0xA50D3132#32
  | 37 => 0x3ED8616C#32
  | 38 => 0xBF441B7D#32
  | 39 => 0x3F7746EA#32
  | 40 => 0xBF7C1C5C#32
  | 41 => 0x3F51B3F3#32
  | 42 => 0xBF000000#32
  | 43 => 0x3DB27EB6#32
  | 44 => 0x3EAF1D44#32
  | 45 => 0xBF3504F3#32
  | 46 => 0x3F708FB2#32
  | 47 => 0xBF7F069E#32
  | 48 => 0x3F5DB3D7#32
  | 49 => 0xBF12D5E8#32
  | 50 => 0x3E31D0D4#32
  | 51 => 0x3E8483EE#32
  | 52 => 0xBF248DBB#32
  | 53 => 0x3F6803CA#32
  | 54 => 0xBF800000#32
  | 55 => 0x3F6803CA#32
  | 56 => 0xBF248DBB#32
  | 57 => 0x3E8483EE#32
  | 58 => 0x3E31D0D4#32
  | 59 => 0xBF12D5E8#32
  | 60 => 0x3F5DB3D7#32
  | 61 => 0xBF7F069E#32
  | 62 => 0x3F708FB2#32
  | 63 => 0xBF3504F3#32
  | 64 => 0x3EAF1D44#32
  | 65 => 0x3DB27EB6#32
  | 66 => 0xBF000000#32
  | 67 => 0x3F51B3F3#32
  | 68 => 0xBF7C1C5C#32
  | 69 => 0x3F7746EA#32
  | 70 => 0xBF441B7D#32
  | 71 => 0x3ED8616C#32
  | 72 => 0x80000000#32
  | 73 => 0xBED8616C#32
  | 74 => 0x3F441B7D#32
  | 75 => 0xBF7746EA#32
  | 76 => 0x3F7C1C5C#32
  | 77 => 0xBF51B3F3#32
  | 78 => 0x3F000000#32
  | 79 => 0xBDB27EB6#32
  | 80 => 0xBEAF1D44#32
  | 81 => 0x3F3504F3#32
  | 82 => 0xBF708FB2#32
  | 83 => 0x3F7F069E#32
  | 84 => 0xBF5DB3D7#32
  | 85 => 0x3F12D5E8#32
  | 86 => 0xBE31D0D4#32
  | 87 => 0xBE8483EE#32
  | 88 => 0x3F248DBB#32
  | 89 => 0xBF6803CA#32
  | 90 => 0x3F800000#32
  | 91 => 0xBF6803CA#32
  | 92 => 0x3F248DBB#32
  | 93 => 0xBE8483EE#32
  | 94 => 0xBE31D0D4#32
  | 95 => 0x3F12D5E8#32
  | 96 => 0xBF5DB3D7#32
  | 97 => 0x3F7F069E#32
  | 98 => 0xBF708FB2#32
  | 99 => 0x3F3504F3#32
  | 100 => 0xBEAF1D44#32
  | 101 => 0xBDB27EB6#32
  | 102 => 0x3F000000#32
  | 103 => 0xBF51B3F3#32
  | 104 => 0x3F7C1C5C#32
  | 105 => 0xBF7746EA#32
  | 106 => 0x3F441B7D#32
  | 107 => 0xBED8616C#32
  | 108 => 0xA50D3132#32
  | 109 => 0x3ED8616C#32
  | 110 => 0xBF441B7D#32
  | 111 => 0x3F7746EA#32
  | 112 => 0xBF7C1C5C#32
  | 113 => 0x3F51B3F3#32
  | 114 => 0xBF000000#32
  | 115 => 0x3DB27EB6#32
  | 116 => 0x3EAF1D44#32
  | 117 => 0xBF3504F3#32
  | 118 => 0x3F708FB2#32
  | 119 => 0xBF7F069E#32
  | 120 => 0x3F5DB3D7#32
  | 121 => 0xBF12D5E8#32
  | 122 => 0x3E31D0D4#32
  | 123 => 0x3E8483EE#32
  | 124 => 0xBF248DBB#32
  | 125 => 0x3F6803CA#32
  | 126 => 0xBF800000#32
  | 127 => 0x3F6803CA#32
  | _ => 0#32

noncomputable abbrev lit1t0_280 (i : Nat) : BitVec 32 := match i % 128 with
  | 0 => 0xBF248DBB#32
  | 1 => 0x3E8483EE#32
  | 2 => 0x3E31D0D4#32
  | 3 => 0xBF12D5E8#32
  | 4 => 0x3F5DB3D7#32
  | 5 => 0xBF7F069E#32
  | 6 => 0x3F708FB2#32
  | 7 => 0xBF3504F3#32
  | 8 => 0x3EAF1D44#32
  | 9 => 0x3DB27EB6#32
  | 10 => 0xBF000000#32
  | 11 => 0x3F51B3F3#32
  | 12 => 0xBF7C1C5C#32
  | 13 => 0x3F7746EA#32
  | 14 => 0xBF441B7D#32
  | 15 => 0x3ED8616C#32
  | 16 => 0x80000000#32
  | 17 => 0xBED8616C#32
  | 18 => 0x3F441B7D#32
  | 19 => 0xBF7746EA#32
  | 20 => 0x3F7C1C5C#32
  | 21 => 0xBF51B3F3#32
  | 22 => 0x3F000000#32
  | 23 => 0xBDB27EB6#32
  | 24 => 0xBEAF1D44#32
  | 25 => 0x3F3504F3#32
  | 26 => 0xBF708FB2#32
  | 27 => 0x3F7F069E#32
  | 28 => 0xBF5DB3D7#32
  | 29 => 0x3F12D5E8#32
  | 30 => 0xBE31D0D4#32
  | 31 => 0xBE8483EE#32
  | 32 => 0x3F248DBB#32
  | 33 => 0xBF6803CA#32
  | 34 => 0x3F800000#32
  | 35 => 0xBF6803CA#32
  | 36 => 0x3F248DBB#32
  | 37 => 0xBE8483EE#32
  | 38 => 0xBE31D0D4#32
  | 39 => 0x3F12D5E8#32
  | 40 => 0xBF5DB3D7#32
  | 41 => 0x3F7F069E#32
  | 42 => 0xBF708FB2#32
  | 43 => 0x3F3504F3#32
  | 44 => 0xBEAF1D44#32
  | 45 => 0xBDB27EB6#32
  | 46 => 0x3F000000#32
  | 47 => 0xBF51B3F3#32
  | 48 => 0x3F7C1C5C#32
  | 49 => 0xBF7746EA#32
  | 50 => 0x3F441B7D#32
  | 51 => 0xBED8616C#32
  | 52 => 0xA50D3132#32
  | 53 => 0x3ED8616C#32
  | 54 => 0xBF441B7D#32
  | 55 => 0x3F7746EA#32
  | 56 => 0xBF7C1C5C#32
  | 57 => 0x3F51B3F3#32
  | 58 => 0xBF000000#32
  | 59 => 0x3DB27EB6#32
  | 60 => 0x3EAF1D44#32
  | 61 => 0xBF3504F3#32
  | 62 => 0x3F708FB2#32
  | 63 => 0xBF7F069E#32
  | 64 => 0x3F5DB3D7#32
  | 65 => 0xBF12D5E8#32
  | 66 => 0x3E31D0D4#32
  | 67 => 0x3E8483EE#32
  | 68 => 0xBF248DBB#32
  | 69 => 0x3F6803CA#32
  | 70 => 0xBF800000#32
  | 71 => 0x3F6803CA#32
  | 72 => 0xBF248DBB#32
  | 73 => 0x3E8483EE#32
  | 74 => 0x3E31D0D4#32
  | 75 => 0xBF12D5E8#32
  | 76 => 0x3F5DB3D7#32
  | 77 => 0xBF7F069E#32
  | 78 => 0x3F708FB2#32
  | 79 => 0xBF3504F3#32
  | 80 => 0x3EAF1D44#32
  | 81 => 0x3DB27EB6#32
  | 82 => 0xBF000000#32
  | 83 => 0x3F51B3F3#32
  | 84 => 0xBF7C1C5C#32
  | 85 => 0x3F7746EA#32
  | 86 => 0xBF441B7D#32
  | 87 => 0x3ED8616C#32
  | 88 => 0x80000000#32
  | 89 => 0xBED8616C#32
  | 90 => 0x3F441B7D#32
  | 91 => 0xBF7746EA#32
  | 92 => 0x3F7C1C5C#32
  | 93 => 0xBF51B3F3#32
  | 94 => 0x3F000000#32
  | 95 => 0xBDB27EB6#32
  | 96 => 0xBEAF1D44#32
  | 97 => 0x3F3504F3#32
  | 98 => 0xBF708FB2#32
  | 99 => 0x3F7F069E#32
  | 100 => 0xBF5DB3D7#32
  | 101 => 0x3F12D5E8#32
  | 102 => 0xBE31D0D4#32
  | 103 => 0xBE8483EE#32
  | 104 => 0x3F248DBB#32
  | 105 => 0xBF6803CA#32
  | 106 => 0x3F800000#32
  | 107 => 0xBF6803CA#32
  | 108 => 0x3F248DBB#32
  | 109 => 0xBE8483EE#32
  | 110 => 0xBE31D0D4#32
  | 111 => 0x3F12D5E8#32
  | 112 => 0xBF5DB3D7#32
  | 113 => 0x3F7F069E#32
  | 114 => 0xBF708FB2#32
  | 115 => 0x3F3504F3#32
  | 116 => 0xBEAF1D44#32
  | 117 => 0xBDB27EB6#32
  | 118 => 0x3F000000#32
  | 119 => 0xBF51B3F3#32
  | 120 => 0x3F7C1C5C#32
  | 121 => 0xBF7746EA#32
  | 122 => 0x3F441B7D#32
  | 123 => 0xBED8616C#32
  | 124 => 0xA50D3132#32
  | 125 => 0x3ED8616C#32
  | 126 => 0xBF441B7D#32
  | 127 => 0x3F7746EA#32
  | _ => 0#32

noncomputable abbrev lit1t0_281 (i : Nat) : BitVec 32 := match i % 128 with
  | 0 => 0xBF7C1C5C#32
  | 1 => 0x3F51B3F3#32
  | 2 => 0xBF000000#32
  | 3 => 0x3DB27EB6#32
  | 4 => 0x3EAF1D44#32
  | 5 => 0xBF3504F3#32
  | 6 => 0x3F708FB2#32
  | 7 => 0xBF7F069E#32
  | 8 => 0x3F5DB3D7#32
  | 9 => 0xBF12D5E8#32
  | 10 => 0x3E31D0D4#32
  | 11 => 0x3E8483EE#32
  | 12 => 0xBF248DBB#32
  | 13 => 0x3F6803CA#32
  | 14 => 0xBF800000#32
  | 15 => 0x3F6803CA#32
  | 16 => 0xBF248DBB#32
  | 17 => 0x3E8483EE#32
  | 18 => 0x3E31D0D4#32
  | 19 => 0xBF12D5E8#32
  | 20 => 0x3F5DB3D7#32
  | 21 => 0xBF7F069E#32
  | 22 => 0x3F708FB2#32
  | 23 => 0xBF3504F3#32
  | 24 => 0x3EAF1D44#32
  | 25 => 0x3DB27EB6#32
  | 26 => 0xBF000000#32
  | 27 => 0x3F51B3F3#32
  | 28 => 0xBF7C1C5C#32
  | 29 => 0x3F7746EA#32
  | 30 => 0xBF441B7D#32
  | 31 => 0x3ED8616C#32
  | 32 => 0x80000000#32
  | 33 => 0xBECE34D0#32
  | 34 => 0x3F3CBE35#32
  | 35 => 0xBF726A03#32
  | 36 => 0x3F7F069E#32
  | 37 => 0xBF60712A#32
  | 38 => 0x3F1BD7CA#32
  | 39 => 0xBE7363EE#32
  | 40 => 0xBE31D0D4#32
  | 41 => 0x3F0E39DA#32
  | 42 => 0xBF57E880#32
  | 43 => 0x3F7D0543#32
  | 44 => 0xBF7746EA#32
  | 45 => 0x3F47A682#32
  | 46 => 0xBEEC6A50#32
  | 47 => 0x3D85F213#32
  | 48 => 0x3EAF1D44#32
  | 49 => 0xBF310700#32
  | 50 => 0x3F6C835E#32
  | 51 => 0xBF7FF067#32
  | 52 => 0x3F6803CA#32
  | 53 => 0xBF28CAE3#32
  | 54 => 0x3E99F61C#32
  | 55 => 0x3DDEF599#32
  | 56 => 0xBF000000#32
  | 57 => 0x3F4E7327#32
  | 58 => 0xBF79EE89#32
  | 59 => 0x3F7B14BE#32
  | 60 => 0xBF51B3F3#32
  | 61 => 0x3F04CE53#32
  | 62 => 0xBE05A8A8#32
  | 63 => 0xBE8F45C0#32
  | 64 => 0x3F248DBB#32
  | 65 => 0xBF659974#32
  | 66 => 0x3F7FC1A0#32
  | 67 => 0xBF6E9811#32
  | 68 => 0x3F3504F3#32
  | 69 => 0xBEB9917B#32
  | 70 => 0xBD32AA3E#32
  | 71 => 0x3EE273AA#32
  | 72 => 0xBF441B7D#32
  | 73 => 0x3F75C5D4#32
  | 74 => 0xBF7DCF55#32
  | 75 => 0x3F5ADB81#32
  | 76 => 0xBF12D5E8#32
  | 77 => 0x3E47C5C2#32
  | 78 => 0x3E5DA259#32
  | 79 => 0xBF176012#32
  | 80 => 0x3F5DB3D7#32
  | 81 => 0xBF7E7A7A#32
  | 82 => 0x3F7426CB#32
  | 83 => 0xBF407893#32
  | 84 => 0x3ED8616C#32
  | 85 => 0xBCB2B521#32
  | 86 => 0xBEC3EF15#32
  | 87 => 0x3F38ECD8#32
  | 88 => 0xBF708FB2#32
  | 89 => 0x3F7F73AF#32
  | 90 => 0xBF631324#32
  | 91 => 0x3F203C85#32
  | 92 => 0xBE8483EE#32
  | 93 => 0xBE1BC63C#32
  | 94 => 0x3F098C78#32
  | 95 => 0xBF54DB31#32
  | 96 => 0x3F7C1C5C#32
  | 97 => 0xBF78A9E0#32
  | 98 => 0x3F4B1934#32
  | 99 => 0xBEF64429#32
  | 100 => 0x3DB27EB6#32
  | 101 => 0x3EA493B7#32
  | 102 => 0xBF2CF37B#32
  | 103 => 0x3F6A51DA#32
  | 104 => 0xBF800000#32
  | 105 => 0x3F6A51DA#32
  | 106 => 0xBF2CF37B#32
  | 107 => 0x3EA493B7#32
  | 108 => 0x3DB27EB6#32
  | 109 => 0xBEF64429#32
  | 110 => 0x3F4B1934#32
  | 111 => 0xBF78A9E0#32
  | 112 => 0x3F7C1C5C#32
  | 113 => 0xBF54DB31#32
  | 114 => 0x3F098C78#32
  | 115 => 0xBE1BC63C#32
  | 116 => 0xBE8483EE#32
  | 117 => 0x3F203C85#32
  | 118 => 0xBF631324#32
  | 119 => 0x3F7F73AF#32
  | 120 => 0xBF708FB2#32
  | 121 => 0x3F38ECD8#32
  | 122 => 0xBEC3EF15#32
  | 123 => 0xBCB2B521#32
  | 124 => 0x3ED8616C#32
  | 125 => 0xBF407893#32
  | 126 => 0x3F7426CB#32
  | 127 => 0xBF7E7A7A#32
  | _ => 0#32

noncomputable abbrev lit1t0_282 (i : Nat) : BitVec 32 := match i % 128 with
  | 0 => 0x3F5DB3D7#32
  | 1 => 0xBF176012#32
  | 2 => 0x3E5DA259#32
  | 3 => 0x3E47C5C2#32
  | 4 => 0xBF12D5E8#32
  | 5 => 0x3F5ADB81#32
  | 6 => 0xBF7DCF55#32
  | 7 => 0x3F75C5D4#32
  | 8 => 0xBF441B7D#32
  | 9 => 0x3EE273AA#32
  | 10 => 0xBD32AA3E#32
  | 11 => 0xBEB9917B#32
  | 12 => 0x3F3504F3#32
  | 13 => 0xBF6E9811#32
  | 14 => 0x3F7FC1A0#32
  | 15 => 0xBF659974#32
  | 16 => 0x3F248DBB#32
  | 17 => 0xBE8F45C0#32
  | 18 => 0xBE05A8A8#32
  | 19 => 0x3F04CE53#32
  | 20 => 0xBF51B3F3#32
  | 21 => 0x3F7B14BE#32
  | 22 => 0xBF79EE89#32
  | 23 => 0x3F4E7327#32
  | 24 => 0xBF000000#32
  | 25 => 0x3DDEF599#32
  | 26 => 0x3E99F61C#32
  | 27 => 0xBF28CAE3#32
  | 28 => 0x3F6803CA#32
  | 29 => 0xBF7FF067#32
  | 30 => 0x3F6C835E#32
  | 31 => 0xBF310700#32
  | 32 => 0x3EAF1D44#32
  | 33 => 0x3D85F213#32
  | 34 => 0xBEEC6A50#32
  | 35 => 0x3F47A682#32
  | 36 => 0xBF7746EA#32
  | 37 => 0x3F7D0543#32
  | 38 => 0xBF57E880#32
  | 39 => 0x3F0E39DA#32
  | 40 => 0xBE31D0D4#32
  | 41 => 0xBE7363EE#32
  | 42 => 0x3F1BD7CA#32
  | 43 => 0xBF60712A#32
  | 44 => 0x3F7F069E#32
  | 45 => 0xBF726A03#32
  | 46 => 0x3F3CBE35#32
  | 47 => 0xBECE34D0#32
  | 48 => 0xA50D3132#32
  | 49 => 0x3ECE34D0#32
  | 50 => 0xBF3CBE35#32
  | 51 => 0x3F726A03#32
  | 52 => 0xBF7F069E#32
  | 53 => 0x3F60712A#32
  | 54 => 0xBF1BD7CA#32
  | 55 => 0x3E7363EE#32
  | 56 => 0x3E31D0D4#32
  | 57 => 0xBF0E39DA#32
  | 58 => 0x3F57E880#32
  | 59 => 0xBF7D0543#32
  | 60 => 0x3F7746EA#32
  | 61 => 0xBF47A682#32
  | 62 => 0x3EEC6A50#32
  | 63 => 0xBD85F213#32
  | 64 => 0xBEAF1D44#32
  | 65 => 0x3F310700#32
  | 66 => 0xBF6C835E#32
  | 67 => 0x3F7FF067#32
  | 68 => 0xBF6803CA#32
  | 69 => 0x3F28CAE3#32
  | 70 => 0xBE99F61C#32
  | 71 => 0xBDDEF599#32
  | 72 => 0x3F000000#32
  | 73 => 0xBF4E7327#32
  | 74 => 0x3F79EE89#32
  | 75 => 0xBF7B14BE#32
  | 76 => 0x3F51B3F3#32
  | 77 => 0xBF04CE53#32
  | 78 => 0x3E05A8A8#32
  | 79 => 0x3E8F45C0#32
  | 80 => 0xBF248DBB#32
  | 81 => 0x3F659974#32
  | 82 => 0xBF7FC1A0#32
  | 83 => 0x3F6E9811#32
  | 84 => 0xBF3504F3#32
  | 85 => 0x3EB9917B#32
  | 86 => 0x3D32AA3E#32
  | 87 => 0xBEE273AA#32
  | 88 => 0x3F441B7D#32
  | 89 => 0xBF75C5D4#32
  | 90 => 0x3F7DCF55#32
  | 91 => 0xBF5ADB81#32
  | 92 => 0x3F12D5E8#32
  | 93 => 0xBE47C5C2#32
  | 94 => 0xBE5DA259#32
  | 95 => 0x3F176012#32
  | 96 => 0xBF5DB3D7#32
  | 97 => 0x3F7E7A7A#32
  | 98 => 0xBF7426CB#32
  | 99 => 0x3F407893#32
  | 100 => 0xBED8616C#32
  | 101 => 0x3CB2B521#32
  | 102 => 0x3EC3EF15#32
  | 103 => 0xBF38ECD8#32
  | 104 => 0x3F708FB2#32
  | 105 => 0xBF7F73AF#32
  | 106 => 0x3F631324#32
  | 107 => 0xBF203C85#32
  | 108 => 0x3E8483EE#32
  | 109 => 0x3E1BC63C#32
  | 110 => 0xBF098C78#32
  | 111 => 0x3F54DB31#32
  | 112 => 0xBF7C1C5C#32
  | 113 => 0x3F78A9E0#32
  | 114 => 0xBF4B1934#32
  | 115 => 0x3EF64429#32
  | 116 => 0xBDB27EB6#32
  | 117 => 0xBEA493B7#32
  | 118 => 0x3F2CF37B#32
  | 119 => 0xBF6A51DA#32
  | 120 => 0x3F800000#32
  | 121 => 0xBF6A51DA#32
  | 122 => 0x3F2CF37B#32
  | 123 => 0xBEA493B7#32
  | 124 => 0xBDB27EB6#32
  | 125 => 0x3EF64429#32
  | 126 => 0xBF4B1934#32
  | 127 => 0x3F78A9E0#32
  | _ => 0#32

noncomputable abbrev lit1t0_283 (i : Nat) : BitVec 32 := match i % 128 with
  | 0 => 0xBF7C1C5C#32
  | 1 => 0x3F54DB31#32
  | 2 => 0xBF098C78#32
  | 3 => 0x3E1BC63C#32
  | 4 => 0x3E8483EE#32
  | 5 => 0xBF203C85#32
  | 6 => 0x3F631324#32
  | 7 => 0xBF7F73AF#32
  | 8 => 0x3F708FB2#32
  | 9 => 0xBF38ECD8#32
  | 10 => 0x3EC3EF15#32
  | 11 => 0x3CB2B521#32
  | 12 => 0xBED8616C#32
  | 13 => 0x3F407893#32
  | 14 => 0xBF7426CB#32
  | 15 => 0x3F7E7A7A#32
  | 16 => 0xBF5DB3D7#32
  | 17 => 0x3F176012#32
  | 18 => 0xBE5DA259#32
  | 19 => 0xBE47C5C2#32
  | 20 => 0x3F12D5E8#32
  | 21 => 0xBF5ADB81#32
  | 22 => 0x3F7DCF55#32
  | 23 => 0xBF75C5D4#32
  | 24 => 0x3F441B7D#32
  | 25 => 0xBEE273AA#32
  | 26 => 0x3D32AA3E#32
  | 27 => 0x3EB9917B#32
  | 28 => 0xBF3504F3#32
  | 29 => 0x3F6E9811#32
  | 30 => 0xBF7FC1A0#32
  | 31 => 0x3F659974#32
  | 32 => 0xBF248DBB#32
  | 33 => 0x3E8F45C0#32
  | 34 => 0x3E05A8A8#32
  | 35 => 0xBF04CE53#32
  | 36 => 0x3F51B3F3#32
  | 37 => 0xBF7B14BE#32
  | 38 => 0x3F79EE89#32
  | 39 => 0xBF4E7327#32
  | 40 => 0x3F000000#32
  | 41 => 0xBDDEF599#32
  | 42 => 0xBE99F61C#32
  | 43 => 0x3F28CAE3#32
  | 44 => 0xBF6803CA#32
  | 45 => 0x3F7FF067#32
  | 46 => 0xBF6C835E#32
  | 47 => 0x3F310700#32
  | 48 => 0xBEAF1D44#32
  | 49 => 0xBD85F213#32
  | 50 => 0x3EEC6A50#32
  | 51 => 0xBF47A682#32
  | 52 => 0x3F7746EA#32
  | 53 => 0xBF7D0543#32
  | 54 => 0x3F57E880#32
  | 55 => 0xBF0E39DA#32
  | 56 => 0x3E31D0D4#32
  | 57 => 0x3E7363EE#32
  | 58 => 0xBF1BD7CA#32
  | 59 => 0x3F60712A#32
  | 60 => 0xBF7F069E#32
  | 61 => 0x3F726A03#32
  | 62 => 0xBF3CBE35#32
  | 63 => 0x3ECE34D0#32
  | 64 => 0x80000000#32
  | 65 => 0xBEC3EF15#32
  | 66 => 0x3F3504F3#32
  | 67 => 0xBF6C835E#32
  | 68 => 0x3F800000#32
  | 69 => 0xBF6C835E#32
  | 70 => 0x3F3504F3#32
  | 71 => 0xBEC3EF15#32
  | 72 => 0xA50D3132#32
  | 73 => 0x3EC3EF15#32
  | 74 => 0xBF3504F3#32
  | 75 => 0x3F6C835E#32
  | 76 => 0xBF800000#32
  | 77 => 0x3F6C835E#32
  | 78 => 0xBF3504F3#32
  | 79 => 0x3EC3EF15#32
  | 80 => 0x80000000#32
  | 81 => 0xBEC3EF15#32
  | 82 => 0x3F3504F3#32
  | 83 => 0xBF6C835E#32
  | 84 => 0x3F800000#32
  | 85 => 0xBF6C835E#32
  | 86 => 0x3F3504F3#32
  | 87 => 0xBEC3EF15#32
  | 88 => 0xA50D3132#32
  | 89 => 0x3EC3EF15#32
  | 90 => 0xBF3504F3#32
  | 91 => 0x3F6C835E#32
  | 92 => 0xBF800000#32
  | 93 => 0x3F6C835E#32
  | 94 => 0xBF3504F3#32
  | 95 => 0x3EC3EF15#32
  | 96 => 0x80000000#32
  | 97 => 0xBEC3EF15#32
  | 98 => 0x3F3504F3#32
  | 99 => 0xBF6C835E#32
  | 100 => 0x3F800000#32
  | 101 => 0xBF6C835E#32
  | 102 => 0x3F3504F3#32
  | 103 => 0xBEC3EF15#32
  | 104 => 0xA50D3132#32
  | 105 => 0x3EC3EF15#32
  | 106 => 0xBF3504F3#32
  | 107 => 0x3F6C835E#32
  | 108 => 0xBF800000#32
  | 109 => 0x3F6C835E#32
  | 110 => 0xBF3504F3#32
  | 111 => 0x3EC3EF15#32
  | 112 => 0x80000000#32
  | 113 => 0xBEC3EF15#32
  | 114 => 0x3F3504F3#32
  | 115 => 0xBF6C835E#32
  | 116 => 0x3F800000#32
  | 117 => 0xBF6C835E#32
  | 118 => 0x3F3504F3#32
  | 119 => 0xBEC3EF15#32
  | 120 => 0xA50D3132#32
  | 121 => 0x3EC3EF15#32
  | 122 => 0xBF3504F3#32
  | 123 => 0x3F6C835E#32
  | 124 => 0xBF800000#32
  | 125 => 0x3F6C835E#32
  | 126 => 0xBF3504F3#32
  | 127 => 0x3EC3EF15#32
  | _ => 0#32

noncomputable abbrev lit1t0_284 (i : Nat) : BitVec 32 := match i % 128 with
  | 0 => 0x80000000#32
  | 1 => 0xBEC3EF15#32
  | 2 => 0x3F3504F3#32
  | 3 => 0xBF6C835E#32
  | 4 => 0x3F800000#32
  | 5 => 0xBF6C835E#32
  | 6 => 0x3F3504F3#32
  | 7 => 0xBEC3EF15#32
  | 8 => 0xA50D3132#32
  | 9 => 0x3EC3EF15#32
  | 10 => 0xBF3504F3#32
  | 11 => 0x3F6C835E#32
  | 12 => 0xBF800000#32
  | 13 => 0x3F6C835E#32
  | 14 => 0xBF3504F3#32
  | 15 => 0x3EC3EF15#32
  | 16 => 0x80000000#32
  | 17 => 0xBEC3EF15#32
  | 18 => 0x3F3504F3#32
  | 19 => 0xBF6C835E#32
  | 20 => 0x3F800000#32
  | 21 => 0xBF6C835E#32
  | 22 => 0x3F3504F3#32
  | 23 => 0xBEC3EF15#32
  | 24 => 0xA50D3132#32
  | 25 => 0x3EC3EF15#32
  | 26 => 0xBF3504F3#32
  | 27 => 0x3F6C835E#32
  | 28 => 0xBF800000#32
  | 29 => 0x3F6C835E#32
  | 30 => 0xBF3504F3#32
  | 31 => 0x3EC3EF15#32
  | 32 => 0x80000000#32
  | 33 => 0xBEC3EF15#32
  | 34 => 0x3F3504F3#32
  | 35 => 0xBF6C835E#32
  | 36 => 0x3F800000#32
  | 37 => 0xBF6C835E#32
  | 38 => 0x3F3504F3#32
  | 39 => 0xBEC3EF15#32
  | 40 => 0xA50D3132#32
  | 41 => 0x3EC3EF15#32
  | 42 => 0xBF3504F3#32
  | 43 => 0x3F6C835E#32
  | 44 => 0xBF800000#32
  | 45 => 0x3F6C835E#32
  | 46 => 0xBF3504F3#32
  | 47 => 0x3EC3EF15#32
  | 48 => 0x80000000#32
  | 49 => 0xBEC3EF15#32
  | 50 => 0x3F3504F3#32
  | 51 => 0xBF6C835E#32
  | 52 => 0x3F800000#32
  | 53 => 0xBF6C835E#32
  | 54 => 0x3F3504F3#32
  | 55 => 0xBEC3EF15#32
  | 56 => 0xA50D3132#32
  | 57 => 0x3EC3EF15#32
  | 58 => 0xBF3504F3#32
  | 59 => 0x3F6C835E#32
  | 60 => 0xBF800000#32
  | 61 => 0x3F6C835E#32
  | 62 => 0xBF3504F3#32
  | 63 => 0x3EC3EF15#32
  | 64 => 0x80000000#32
  | 65 => 0xBEC3EF15#32
  | 66 => 0x3F3504F3#32
  | 67 => 0xBF6C835E#32
  | 68 => 0x3F800000#32
  | 69 => 0xBF6C835E#32
  | 70 => 0x3F3504F3#32
  | 71 => 0xBEC3EF15#32
  | 72 => 0xA50D3132#32
  | 73 => 0x3EC3EF15#32
  | 74 => 0xBF3504F3#32
  | 75 => 0x3F6C835E#32
  | 76 => 0xBF800000#32
  | 77 => 0x3F6C835E#32
  | 78 => 0xBF3504F3#32
  | 79 => 0x3EC3EF15#32
  | 80 => 0x80000000#32
  | 81 => 0xBEC3EF15#32
  | 82 => 0x3F3504F3#32
  | 83 => 0xBF6C835E#32
  | 84 => 0x3F800000#32
  | 85 => 0xBF6C835E#32
  | 86 => 0x3F3504F3#32
  | 87 => 0xBEC3EF15#32
  | 88 => 0xA50D3132#32
  | 89 => 0x3EC3EF15#32
  | 90 => 0xBF3504F3#32
  | 91 => 0x3F6C835E#32
  | 92 => 0xBF800000#32
  | 93 => 0x3F6C835E#32
  | 94 => 0xBF3504F3#32
  | 95 => 0x3EC3EF15#32
  | 96 => 0x80000000#32
  | 97 => 0xBEC3EF15#32
  | 98 => 0x3F3504F3#32
  | 99 => 0xBF6C835E#32
  | 100 => 0x3F800000#32
  | 101 => 0xBF6C835E#32
  | 102 => 0x3F3504F3#32
  | 103 => 0xBEC3EF15#32
  | 104 => 0xA50D3132#32
  | 105 => 0x3EC3EF15#32
  | 106 => 0xBF3504F3#32
  | 107 => 0x3F6C835E#32
  | 108 => 0xBF800000#32
  | 109 => 0x3F6C835E#32
  | 110 => 0xBF3504F3#32
  | 111 => 0x3EC3EF15#32
  | 112 => 0x80000000#32
  | 113 => 0xBEC3EF15#32
  | 114 => 0x3F3504F3#32
  | 115 => 0xBF6C835E#32
  | 116 => 0x3F800000#32
  | 117 => 0xBF6C835E#32
  | 118 => 0x3F3504F3#32
  | 119 => 0xBEC3EF15#32
  | 120 => 0xA50D3132#32
  | 121 => 0x3EC3EF15#32
  | 122 => 0xBF3504F3#32
  | 123 => 0x3F6C835E#32
  | 124 => 0xBF800000#32
  | 125 => 0x3F6C835E#32
  | 126 => 0xBF3504F3#32
  | 127 => 0x3EC3EF15#32
  | _ => 0#32

noncomputable abbrev lit1t0_285 (i : Nat) : BitVec 32 := match i % 128 with
  | 0 => 0x80000000#32
  | 1 => 0xBEC3EF15#32
  | 2 => 0x3F3504F3#32
  | 3 => 0xBF6C835E#32
  | 4 => 0x3F800000#32
  | 5 => 0xBF6C835E#32
  | 6 => 0x3F3504F3#32
  | 7 => 0xBEC3EF15#32
  | 8 => 0xA50D3132#32
  | 9 => 0x3EC3EF15#32
  | 10 => 0xBF3504F3#32
  | 11 => 0x3F6C835E#32
  | 12 => 0xBF800000#32
  | 13 => 0x3F6C835E#32
  | 14 => 0xBF3504F3#32
  | 15 => 0x3EC3EF15#32
  | 16 => 0x80000000#32
  | 17 => 0xBEC3EF15#32
  | 18 => 0x3F3504F3#32
  | 19 => 0xBF6C835E#32
  | 20 => 0x3F800000#32
  | 21 => 0xBF6C835E#32
  | 22 => 0x3F3504F3#32
  | 23 => 0xBEC3EF15#32
  | 24 => 0xA50D3132#32
  | 25 => 0x3EC3EF15#32
  | 26 => 0xBF3504F3#32
  | 27 => 0x3F6C835E#32
  | 28 => 0xBF800000#32
  | 29 => 0x3F6C835E#32
  | 30 => 0xBF3504F3#32
  | 31 => 0x3EC3EF15#32
  | 32 => 0x80000000#32
  | 33 => 0xBEC3EF15#32
  | 34 => 0x3F3504F3#32
  | 35 => 0xBF6C835E#32
  | 36 => 0x3F800000#32
  | 37 => 0xBF6C835E#32
  | 38 => 0x3F3504F3#32
  | 39 => 0xBEC3EF15#32
  | 40 => 0xA50D3132#32
  | 41 => 0x3EC3EF15#32
  | 42 => 0xBF3504F3#32
  | 43 => 0x3F6C835E#32
  | 44 => 0xBF800000#32
  | 45 => 0x3F6C835E#32
  | 46 => 0xBF3504F3#32
  | 47 => 0x3EC3EF15#32
  | 48 => 0x80000000#32
  | 49 => 0xBEC3EF15#32
  | 50 => 0x3F3504F3#32
  | 51 => 0xBF6C835E#32
  | 52 => 0x3F800000#32
  | 53 => 0xBF6C835E#32
  | 54 => 0x3F3504F3#32
  | 55 => 0xBEC3EF15#32
  | 56 => 0xA50D3132#32
  | 57 => 0x3EC3EF15#32
  | 58 => 0xBF3504F3#32
  | 59 => 0x3F6C835E#32
  | 60 => 0xBF800000#32
  | 61 => 0x3F6C835E#32
  | 62 => 0xBF3504F3#32
  | 63 => 0x3EC3EF15#32
  | 64 => 0x80000000#32
  | 65 => 0xBEC3EF15#32
  | 66 => 0x3F3504F3#32
  | 67 => 0xBF6C835E#32
  | 68 => 0x3F800000#32
  | 69 => 0xBF6C835E#32
  | 70 => 0x3F3504F3#32
  | 71 => 0xBEC3EF15#32
  | 72 => 0xA50D3132#32
  | 73 => 0x3EC3EF15#32
  | 74 => 0xBF3504F3#32
  | 75 => 0x3F6C835E#32
  | 76 => 0xBF800000#32
  | 77 => 0x3F6C835E#32
  | 78 => 0xBF3504F3#32
  | 79 => 0x3EC3EF15#32
  | 80 => 0x80000000#32
  | 81 => 0xBEC3EF15#32
  | 82 => 0x3F3504F3#32
  | 83 => 0xBF6C835E#32
  | 84 => 0x3F800000#32
  | 85 => 0xBF6C835E#32
  | 86 => 0x3F3504F3#32
  | 87 => 0xBEC3EF15#32
  | 88 => 0xA50D3132#32
  | 89 => 0x3EC3EF15#32
  | 90 => 0xBF3504F3#32
  | 91 => 0x3F6C835E#32
  | 92 => 0xBF800000#32
  | 93 => 0x3F6C835E#32
  | 94 => 0xBF3504F3#32
  | 95 => 0x3EC3EF15#32
  | 96 => 0x80000000#32
  | 97 => 0xBEB9917B#32
  | 98 => 0x3F2CF37B#32
  | 99 => 0xBF659974#32
  | 100 => 0x3F7F069E#32
  | 101 => 0xBF75C5D4#32
  | 102 => 0x3F4B1934#32
  | 103 => 0xBF04CE53#32
  | 104 => 0x3E31D0D4#32
  | 105 => 0x3E47C5C2#32
  | 106 => 0xBF098C78#32
  | 107 => 0x3F4E7327#32
  | 108 => 0xBF7746EA#32
  | 109 => 0x3F7E7A7A#32
  | 110 => 0xBF631324#32
  | 111 => 0x3F28CAE3#32
  | 112 => 0xBEAF1D44#32
  | 113 => 0xBCB2B521#32
  | 114 => 0x3EC3EF15#32
  | 115 => 0xBF310700#32
  | 116 => 0x3F6803CA#32
  | 117 => 0xBF7F73AF#32
  | 118 => 0x3F7426CB#32
  | 119 => 0xBF47A682#32
  | 120 => 0x3F000000#32
  | 121 => 0xBE1BC63C#32
  | 122 => 0xBE5DA259#32
  | 123 => 0x3F0E39DA#32
  | 124 => 0xBF51B3F3#32
  | 125 => 0x3F78A9E0#32
  | 126 => 0xBF7DCF55#32
  | 127 => 0x3F60712A#32
  | _ => 0#32

noncomputable abbrev lit1t0_286 (i : Nat) : BitVec 32 := match i % 128 with
  | 0 => 0xBF248DBB#32
  | 1 => 0x3EA493B7#32
  | 2 => 0x3D32AA3E#32
  | 3 => 0xBECE34D0#32
  | 4 => 0x3F3504F3#32
  | 5 => 0xBF6A51DA#32
  | 6 => 0x3F7FC1A0#32
  | 7 => 0xBF726A03#32
  | 8 => 0x3F441B7D#32
  | 9 => 0xBEF64429#32
  | 10 => 0x3E05A8A8#32
  | 11 => 0x3E7363EE#32
  | 12 => 0xBF12D5E8#32
  | 13 => 0x3F54DB31#32
  | 14 => 0xBF79EE89#32
  | 15 => 0x3F7D0543#32
  | 16 => 0xBF5DB3D7#32
  | 17 => 0x3F203C85#32
  | 18 => 0xBE99F61C#32
  | 19 => 0xBD85F213#32
  | 20 => 0x3ED8616C#32
  | 21 => 0xBF38ECD8#32
  | 22 => 0x3F6C835E#32
  | 23 => 0xBF7FF067#32
  | 24 => 0x3F708FB2#32
  | 25 => 0xBF407893#32
  | 26 => 0x3EEC6A50#32
  | 27 => 0xBDDEF599#32
  | 28 => 0xBE8483EE#32
  | 29 => 0x3F176012#32
  | 30 => 0xBF57E880#32
  | 31 => 0x3F7B14BE#32
  | 32 => 0xBF7C1C5C#32
  | 33 => 0x3F5ADB81#32
  | 34 => 0xBF1BD7CA#32
  | 35 => 0x3E8F45C0#32
  | 36 => 0x3DB27EB6#32
  | 37 => 0xBEE273AA#32
  | 38 => 0x3F3CBE35#32
  | 39 => 0xBF6E9811#32
  | 40 => 0x3F800000#32
  | 41 => 0xBF6E9811#32
  | 42 => 0x3F3CBE35#32
  | 43 => 0xBEE273AA#32
  | 44 => 0x3DB27EB6#32
  | 45 => 0x3E8F45C0#32
  | 46 => 0xBF1BD7CA#32
  | 47 => 0x3F5ADB81#32
  | 48 => 0xBF7C1C5C#32
  | 49 => 0x3F7B14BE#32
  | 50 => 0xBF57E880#32
  | 51 => 0x3F176012#32
  | 52 => 0xBE8483EE#32
  | 53 => 0xBDDEF599#32
  | 54 => 0x3EEC6A50#32
  | 55 => 0xBF407893#32
  | 56 => 0x3F708FB2#32
  | 57 => 0xBF7FF067#32
  | 58 => 0x3F6C835E#32
  | 59 => 0xBF38ECD8#32
  | 60 => 0x3ED8616C#32
  | 61 => 0xBD85F213#32
  | 62 => 0xBE99F61C#32
  | 63 => 0x3F203C85#32
  | 64 => 0xBF5DB3D7#32
  | 65 => 0x3F7D0543#32
  | 66 => 0xBF79EE89#32
  | 67 => 0x3F54DB31#32
  | 68 => 0xBF12D5E8#32
  | 69 => 0x3E7363EE#32
  | 70 => 0x3E05A8A8#32
  | 71 => 0xBEF64429#32
  | 72 => 0x3F441B7D#32
  | 73 => 0xBF726A03#32
  | 74 => 0x3F7FC1A0#32
  | 75 => 0xBF6A51DA#32
  | 76 => 0x3F3504F3#32
  | 77 => 0xBECE34D0#32
  | 78 => 0x3D32AA3E#32
  | 79 => 0x3EA493B7#32
  | 80 => 0xBF248DBB#32
  | 81 => 0x3F60712A#32
  | 82 => 0xBF7DCF55#32
  | 83 => 0x3F78A9E0#32
  | 84 => 0xBF51B3F3#32
  | 85 => 0x3F0E39DA#32
  | 86 => 0xBE5DA259#32
  | 87 => 0xBE1BC63C#32
  | 88 => 0x3F000000#32
  | 89 => 0xBF47A682#32
  | 90 => 0x3F7426CB#32
  | 91 => 0xBF7F73AF#32
  | 92 => 0x3F6803CA#32
  | 93 => 0xBF310700#32
  | 94 => 0x3EC3EF15#32
  | 95 => 0xBCB2B521#32
  | 96 => 0xBEAF1D44#32
  | 97 => 0x3F28CAE3#32
  | 98 => 0xBF631324#32
  | 99 => 0x3F7E7A7A#32
  | 100 => 0xBF7746EA#32
  | 101 => 0x3F4E7327#32
  | 102 => 0xBF098C78#32
  | 103 => 0x3E47C5C2#32
  | 104 => 0x3E31D0D4#32
  | 105 => 0xBF04CE53#32
  | 106 => 0x3F4B1934#32
  | 107 => 0xBF75C5D4#32
  | 108 => 0x3F7F069E#32
  | 109 => 0xBF659974#32
  | 110 => 0x3F2CF37B#32
  | 111 => 0xBEB9917B#32
  | 112 => 0xA50D3132#32
  | 113 => 0x3EB9917B#32
  | 114 => 0xBF2CF37B#32
  | 115 => 0x3F659974#32
  | 116 => 0xBF7F069E#32
  | 117 => 0x3F75C5D4#32
  | 118 => 0xBF4B1934#32
  | 119 => 0x3F04CE53#32
  | 120 => 0xBE31D0D4#32
  | 121 => 0xBE47C5C2#32
  | 122 => 0x3F098C78#32
  | 123 => 0xBF4E7327#32
  | 124 => 0x3F7746EA#32
  | 125 => 0xBF7E7A7A#32
  | 126 => 0x3F631324#32
  | 127 => 0xBF28CAE3#32
  | _ => 0#32

noncomputable abbrev lit1t0_287 (i : Nat) : BitVec 32 := match i % 128 with
  | 0 => 0x3EAF1D44#32
  | 1 => 0x3CB2B521#32
  | 2 => 0xBEC3EF15#32
  | 3 => 0x3F310700#32
  | 4 => 0xBF6803CA#32
  | 5 => 0x3F7F73AF#32
  | 6 => 0xBF7426CB#32
  | 7 => 0x3F47A682#32
  | 8 => 0xBF000000#32
  | 9 => 0x3E1BC63C#32
  | 10 => 0x3E5DA259#32
  | 11 => 0xBF0E39DA#32
  | 12 => 0x3F51B3F3#32
  | 13 => 0xBF78A9E0#32
  | 14 => 0x3F7DCF55#32
  | 15 => 0xBF60712A#32
  | 16 => 0x3F248DBB#32
  | 17 => 0xBEA493B7#32
  | 18 => 0xBD32AA3E#32
  | 19 => 0x3ECE34D0#32
  | 20 => 0xBF3504F3#32
  | 21 => 0x3F6A51DA#32
  | 22 => 0xBF7FC1A0#32
  | 23 => 0x3F726A03#32
  | 24 => 0xBF441B7D#32
  | 25 => 0x3EF64429#32
  | 26 => 0xBE05A8A8#32
  | 27 => 0xBE7363EE#32
  | 28 => 0x3F12D5E8#32
  | 29 => 0xBF54DB31#32
  | 30 => 0x3F79EE89#32
  | 31 => 0xBF7D0543#32
  | 32 => 0x3F5DB3D7#32
  | 33 => 0xBF203C85#32
  | 34 => 0x3E99F61C#32
  | 35 => 0x3D85F213#32
  | 36 => 0xBED8616C#32
  | 37 => 0x3F38ECD8#32
  | 38 => 0xBF6C835E#32
  | 39 => 0x3F7FF067#32
  | 40 => 0xBF708FB2#32
  | 41 => 0x3F407893#32
  | 42 => 0xBEEC6A50#32
  | 43 => 0x3DDEF599#32
  | 44 => 0x3E8483EE#32
  | 45 => 0xBF176012#32
  | 46 => 0x3F57E880#32
  | 47 => 0xBF7B14BE#32
  | 48 => 0x3F7C1C5C#32
  | 49 => 0xBF5ADB81#32
  | 50 => 0x3F1BD7CA#32
  | 51 => 0xBE8F45C0#32
  | 52 => 0xBDB27EB6#32
  | 53 => 0x3EE273AA#32
  | 54 => 0xBF3CBE35#32
  | 55 => 0x3F6E9811#32
  | 56 => 0xBF800000#32
  | 57 => 0x3F6E9811#32
  | 58 => 0xBF3CBE35#32
  | 59 => 0x3EE273AA#32
  | 60 => 0xBDB27EB6#32
  | 61 => 0xBE8F45C0#32
  | 62 => 0x3F1BD7CA#32
  | 63 => 0xBF5ADB81#32
  | 64 => 0x3F7C1C5C#32
  | 65 => 0xBF7B14BE#32
  | 66 => 0x3F57E880#32
  | 67 => 0xBF176012#32
  | 68 => 0x3E8483EE#32
  | 69 => 0x3DDEF599#32
  | 70 => 0xBEEC6A50#32
  | 71 => 0x3F407893#32
  | 72 => 0xBF708FB2#32
  | 73 => 0x3F7FF067#32
  | 74 => 0xBF6C835E#32
  | 75 => 0x3F38ECD8#32
  | 76 => 0xBED8616C#32
  | 77 => 0x3D85F213#32
  | 78 => 0x3E99F61C#32
  | 79 => 0xBF203C85#32
  | 80 => 0x3F5DB3D7#32
  | 81 => 0xBF7D0543#32
  | 82 => 0x3F79EE89#32
  | 83 => 0xBF54DB31#32
  | 84 => 0x3F12D5E8#32
  | 85 => 0xBE7363EE#32
  | 86 => 0xBE05A8A8#32
  | 87 => 0x3EF64429#32
  | 88 => 0xBF441B7D#32
  | 89 => 0x3F726A03#32
  | 90 => 0xBF7FC1A0#32
  | 91 => 0x3F6A51DA#32
  | 92 => 0xBF3504F3#32
  | 93 => 0x3ECE34D0#32
  | 94 => 0xBD32AA3E#32
  | 95 => 0xBEA493B7#32
  | 96 => 0x3F248DBB#32
  | 97 => 0xBF60712A#32
  | 98 => 0x3F7DCF55#32
  | 99 => 0xBF78A9E0#32
  | 100 => 0x3F51B3F3#32
  | 101 => 0xBF0E39DA#32
  | 102 => 0x3E5DA259#32
  | 103 => 0x3E1BC63C#32
  | 104 => 0xBF000000#32
  | 105 => 0x3F47A682#32
  | 106 => 0xBF7426CB#32
  | 107 => 0x3F7F73AF#32
  | 108 => 0xBF6803CA#32
  | 109 => 0x3F310700#32
  | 110 => 0xBEC3EF15#32
  | 111 => 0x3CB2B521#32
  | 112 => 0x3EAF1D44#32
  | 113 => 0xBF28CAE3#32
  | 114 => 0x3F631324#32
  | 115 => 0xBF7E7A7A#32
  | 116 => 0x3F7746EA#32
  | 117 => 0xBF4E7327#32
  | 118 => 0x3F098C78#32
  | 119 => 0xBE47C5C2#32
  | 120 => 0xBE31D0D4#32
  | 121 => 0x3F04CE53#32
  | 122 => 0xBF4B1934#32
  | 123 => 0x3F75C5D4#32
  | 124 => 0xBF7F069E#32
  | 125 => 0x3F659974#32
  | 126 => 0xBF2CF37B#32
  | 127 => 0x3EB9917B#32
  | _ => 0#32

noncomputable abbrev lit1t0_288 (i : Nat) : BitVec 32 := match i % 128 with
  | 0 => 0x80000000#32
  | 1 => 0xBEAF1D44#32
  | 2 => 0x3F248DBB#32
  | 3 => 0xBF5DB3D7#32
  | 4 => 0x3F7C1C5C#32
  | 5 => 0xBF7C1C5C#32
  | 6 => 0x3F5DB3D7#32
  | 7 => 0xBF248DBB#32
  | 8 => 0x3EAF1D44#32
  | 9 => 0x80000000#32
  | 10 => 0xBEAF1D44#32
  | 11 => 0x3F248DBB#32
  | 12 => 0xBF5DB3D7#32
  | 13 => 0x3F7C1C5C#32
  | 14 => 0xBF7C1C5C#32
  | 15 => 0x3F5DB3D7#32
  | 16 => 0xBF248DBB#32
  | 17 => 0x3EAF1D44#32
  | 18 => 0x80000000#32
  | 19 => 0xBEAF1D44#32
  | 20 => 0x3F248DBB#32
  | 21 => 0xBF5DB3D7#32
  | 22 => 0x3F7C1C5C#32
  | 23 => 0xBF7C1C5C#32
  | 24 => 0x3F5DB3D7#32
  | 25 => 0xBF248DBB#32
  | 26 => 0x3EAF1D44#32
  | 27 => 0x80000000#32
  | 28 => 0xBEAF1D44#32
  | 29 => 0x3F248DBB#32
  | 30 => 0xBF5DB3D7#32
  | 31 => 0x3F7C1C5C#32
  | 32 => 0xBF7C1C5C#32
  | 33 => 0x3F5DB3D7#32
  | 34 => 0xBF248DBB#32
  | 35 => 0x3EAF1D44#32
  | 36 => 0x80000000#32
  | 37 => 0xBEAF1D44#32
  | 38 => 0x3F248DBB#32
  | 39 => 0xBF5DB3D7#32
  | 40 => 0x3F7C1C5C#32
  | 41 => 0xBF7C1C5C#32
  | 42 => 0x3F5DB3D7#32
  | 43 => 0xBF248DBB#32
  | 44 => 0x3EAF1D44#32
  | 45 => 0x80000000#32
  | 46 => 0xBEAF1D44#32
  | 47 => 0x3F248DBB#32
  | 48 => 0xBF5DB3D7#32
  | 49 => 0x3F7C1C5C#32
  | 50 => 0xBF7C1C5C#32
  | 51 => 0x3F5DB3D7#32
  | 52 => 0xBF248DBB#32
  | 53 => 0x3EAF1D44#32
  | 54 => 0x80000000#32
  | 55 => 0xBEAF1D44#32
  | 56 => 0x3F248DBB#32
  | 57 => 0xBF5DB3D7#32
  | 58 => 0x3F7C1C5C#32
  | 59 => 0xBF7C1C5C#32
  | 60 => 0x3F5DB3D7#32
  | 61 => 0xBF248DBB#32
  | 62 => 0x3EAF1D44#32
  | 63 => 0x80000000#32
  | 64 => 0xBEAF1D44#32
  | 65 => 0x3F248DBB#32
  | 66 => 0xBF5DB3D7#32
  | 67 => 0x3F7C1C5C#32
  | 68 => 0xBF7C1C5C#32
  | 69 => 0x3F5DB3D7#32
  | 70 => 0xBF248DBB#32
  | 71 => 0x3EAF1D44#32
  | 72 => 0x80000000#32
  | 73 => 0xBEAF1D44#32
  | 74 => 0x3F248DBB#32
  | 75 => 0xBF5DB3D7#32
  | 76 => 0x3F7C1C5C#32
  | 77 => 0xBF7C1C5C#32
  | 78 => 0x3F5DB3D7#32
  | 79 => 0xBF248DBB#32
  | 80 => 0x3EAF1D44#32
  | 81 => 0x80000000#32
  | 82 => 0xBEAF1D44#32
  | 83 => 0x3F248DBB#32
  | 84 => 0xBF5DB3D7#32
  | 85 => 0x3F7C1C5C#32
  | 86 => 0xBF7C1C5C#32
  | 87 => 0x3F5DB3D7#32
  | 88 => 0xBF248DBB#32
  | 89 => 0x3EAF1D44#32
  | 90 => 0x80000000#32
  | 91 => 0xBEAF1D44#32
  | 92 => 0x3F248DBB#32
  | 93 => 0xBF5DB3D7#32
  | 94 => 0x3F7C1C5C#32
  | 95 => 0xBF7C1C5C#32
  | 96 => 0x3F5DB3D7#32
  | 97 => 0xBF248DBB#32
  | 98 => 0x3EAF1D44#32
  | 99 => 0x80000000#32
  | 100 => 0xBEAF1D44#32
  | 101 => 0x3F248DBB#32
  | 102 => 0xBF5DB3D7#32
  | 103 => 0x3F7C1C5C#32
  | 104 => 0xBF7C1C5C#32
  | 105 => 0x3F5DB3D7#32
  | 106 => 0xBF248DBB#32
  | 107 => 0x3EAF1D44#32
  | 108 => 0x80000000#32
  | 109 => 0xBEAF1D44#32
  | 110 => 0x3F248DBB#32
  | 111 => 0xBF5DB3D7#32
  | 112 => 0x3F7C1C5C#32
  | 113 => 0xBF7C1C5C#32
  | 114 => 0x3F5DB3D7#32
  | 115 => 0xBF248DBB#32
  | 116 => 0x3EAF1D44#32
  | 117 => 0x80000000#32
  | 118 => 0xBEAF1D44#32
  | 119 => 0x3F248DBB#32
  | 120 => 0xBF5DB3D7#32
  | 121 => 0x3F7C1C5C#32
  | 122 => 0xBF7C1C5C#32
  | 123 => 0x3F5DB3D7#32
  | 124 => 0xBF248DBB#32
  | 125 => 0x3EAF1D44#32
  | 126 => 0x80000000#32
  | 127 => 0xBEAF1D44#32
  | _ => 0#32

noncomputable abbrev lit1t0_289 (i : Nat) : BitVec 32 := match i % 128 with
  | 0 => 0x3F248DBB#32
  | 1 => 0xBF5DB3D7#32
  | 2 => 0x3F7C1C5C#32
  | 3 => 0xBF7C1C5C#32
  | 4 => 0x3F5DB3D7#32
  | 5 => 0xBF248DBB#32
  | 6 => 0x3EAF1D44#32
  | 7 => 0x80000000#32
  | 8 => 0xBEAF1D44#32
  | 9 => 0x3F248DBB#32
  | 10 => 0xBF5DB3D7#32
  | 11 => 0x3F7C1C5C#32
  | 12 => 0xBF7C1C5C#32
  | 13 => 0x3F5DB3D7#32
  | 14 => 0xBF248DBB#32
  | 15 => 0x3EAF1D44#32
  | 16 => 0x80000000#32
  | 17 => 0xBEAF1D44#32
  | 18 => 0x3F248DBB#32
  | 19 => 0xBF5DB3D7#32
  | 20 => 0x3F7C1C5C#32
  | 21 => 0xBF7C1C5C#32
  | 22 => 0x3F5DB3D7#32
  | 23 => 0xBF248DBB#32
  | 24 => 0x3EAF1D44#32
  | 25 => 0x80000000#32
  | 26 => 0xBEAF1D44#32
  | 27 => 0x3F248DBB#32
  | 28 => 0xBF5DB3D7#32
  | 29 => 0x3F7C1C5C#32
  | 30 => 0xBF7C1C5C#32
  | 31 => 0x3F5DB3D7#32
  | 32 => 0xBF248DBB#32
  | 33 => 0x3EAF1D44#32
  | 34 => 0x80000000#32
  | 35 => 0xBEAF1D44#32
  | 36 => 0x3F248DBB#32
  | 37 => 0xBF5DB3D7#32
  | 38 => 0x3F7C1C5C#32
  | 39 => 0xBF7C1C5C#32
  | 40 => 0x3F5DB3D7#32
  | 41 => 0xBF248DBB#32
  | 42 => 0x3EAF1D44#32
  | 43 => 0x80000000#32
  | 44 => 0xBEAF1D44#32
  | 45 => 0x3F248DBB#32
  | 46 => 0xBF5DB3D7#32
  | 47 => 0x3F7C1C5C#32
  | 48 => 0xBF7C1C5C#32
  | 49 => 0x3F5DB3D7#32
  | 50 => 0xBF248DBB#32
  | 51 => 0x3EAF1D44#32
  | 52 => 0x80000000#32
  | 53 => 0xBEAF1D44#32
  | 54 => 0x3F248DBB#32
  | 55 => 0xBF5DB3D7#32
  | 56 => 0x3F7C1C5C#32
  | 57 => 0xBF7C1C5C#32
  | 58 => 0x3F5DB3D7#32
  | 59 => 0xBF248DBB#32
  | 60 => 0x3EAF1D44#32
  | 61 => 0x80000000#32
  | 62 => 0xBEAF1D44#32
  | 63 => 0x3F248DBB#32
  | 64 => 0xBF5DB3D7#32
  | 65 => 0x3F7C1C5C#32
  | 66 => 0xBF7C1C5C#32
  | 67 => 0x3F5DB3D7#32
  | 68 => 0xBF248DBB#32
  | 69 => 0x3EAF1D44#32
  | 70 => 0x80000000#32
  | 71 => 0xBEAF1D44#32
  | 72 => 0x3F248DBB#32
  | 73 => 0xBF5DB3D7#32
  | 74 => 0x3F7C1C5C#32
  | 75 => 0xBF7C1C5C#32
  | 76 => 0x3F5DB3D7#32
  | 77 => 0xBF248DBB#32
  | 78 => 0x3EAF1D44#32
  | 79 => 0x80000000#32
  | 80 => 0xBEAF1D44#32
  | 81 => 0x3F248DBB#32
  | 82 => 0xBF5DB3D7#32
  | 83 => 0x3F7C1C5C#32
  | 84 => 0xBF7C1C5C#32
  | 85 => 0x3F5DB3D7#32
  | 86 => 0xBF248DBB#32
  | 87 => 0x3EAF1D44#32
  | 88 => 0x80000000#32
  | 89 => 0xBEAF1D44#32
  | 90 => 0x3F248DBB#32
  | 91 => 0xBF5DB3D7#32
  | 92 => 0x3F7C1C5C#32
  | 93 => 0xBF7C1C5C#32
  | 94 => 0x3F5DB3D7#32
  | 95 => 0xBF248DBB#32
  | 96 => 0x3EAF1D44#32
  | 97 => 0x80000000#32
  | 98 => 0xBEAF1D44#32
  | 99 => 0x3F248DBB#32
  | 100 => 0xBF5DB3D7#32
  | 101 => 0x3F7C1C5C#32
  | 102 => 0xBF7C1C5C#32
  | 103 => 0x3F5DB3D7#32
  | 104 => 0xBF248DBB#32
  | 105 => 0x3EAF1D44#32
  | 106 => 0x80000000#32
  | 107 => 0xBEAF1D44#32
  | 108 => 0x3F248DBB#32
  | 109 => 0xBF5DB3D7#32
  | 110 => 0x3F7C1C5C#32
  | 111 => 0xBF7C1C5C#32
  | 112 => 0x3F5DB3D7#32
  | 113 => 0xBF248DBB#32
  | 114 => 0x3EAF1D44#32
  | 115 => 0x80000000#32
  | 116 => 0xBEAF1D44#32
  | 117 => 0x3F248DBB#32
  | 118 => 0xBF5DB3D7#32
  | 119 => 0x3F7C1C5C#32
  | 120 => 0xBF7C1C5C#32
  | 121 => 0x3F5DB3D7#32
  | 122 => 0xBF248DBB#32
  | 123 => 0x3EAF1D44#32
  | 124 => 0x80000000#32
  | 125 => 0xBEAF1D44#32
  | 126 => 0x3F248DBB#32
  | 127 => 0xBF5DB3D7#32
  | _ => 0#32

noncomputable abbrev lit1t0_290 (i : Nat) : BitVec 32 := match i % 128 with
  | 0 => 0x3F7C1C5C#32
  | 1 => 0xBF7C1C5C#32
  | 2 => 0x3F5DB3D7#32
  | 3 => 0xBF248DBB#32
  | 4 => 0x3EAF1D44#32
  | 5 => 0x80000000#32
  | 6 => 0xBEAF1D44#32
  | 7 => 0x3F248DBB#32
  | 8 => 0xBF5DB3D7#32
  | 9 => 0x3F7C1C5C#32
  | 10 => 0xBF7C1C5C#32
  | 11 => 0x3F5DB3D7#32
  | 12 => 0xBF248DBB#32
  | 13 => 0x3EAF1D44#32
  | 14 => 0x80000000#32
  | 15 => 0xBEAF1D44#32
  | 16 => 0x3F248DBB#32
  | 17 => 0xBF5DB3D7#32
  | 18 => 0x3F7C1C5C#32
  | 19 => 0xBF7C1C5C#32
  | 20 => 0x3F5DB3D7#32
  | 21 => 0xBF248DBB#32
  | 22 => 0x3EAF1D44#32
  | 23 => 0x80000000#32
  | 24 => 0xBEAF1D44#32
  | 25 => 0x3F248DBB#32
  | 26 => 0xBF5DB3D7#32
  | 27 => 0x3F7C1C5C#32
  | 28 => 0xBF7C1C5C#32
  | 29 => 0x3F5DB3D7#32
  | 30 => 0xBF248DBB#32
  | 31 => 0x3EAF1D44#32
  | 32 => 0x80000000#32
  | 33 => 0xBEA493B7#32
  | 34 => 0x3F1BD7CA#32
  | 35 => 0xBF54DB31#32
  | 36 => 0x3F7746EA#32
  | 37 => 0xBF7F73AF#32
  | 38 => 0x3F6C835E#32
  | 39 => 0xBF407893#32
  | 40 => 0x3F000000#32
  | 41 => 0xBE47C5C2#32
  | 42 => 0xBE05A8A8#32
  | 43 => 0x3EE273AA#32
  | 44 => 0xBF3504F3#32
  | 45 => 0x3F659974#32
  | 46 => 0xBF7DCF55#32
  | 47 => 0x3F7B14BE#32
  | 48 => 0xBF5DB3D7#32
  | 49 => 0x3F28CAE3#32
  | 50 => 0xBEC3EF15#32
  | 51 => 0x3D85F213#32
  | 52 => 0x3E8483EE#32
  | 53 => 0xBF0E39DA#32
  | 54 => 0x3F4B1934#32
  | 55 => 0xBF726A03#32
  | 56 => 0x3F800000#32
  | 57 => 0xBF726A03#32
  | 58 => 0x3F4B1934#32
  | 59 => 0xBF0E39DA#32
  | 60 => 0x3E8483EE#32
  | 61 => 0x3D85F213#32
  | 62 => 0xBEC3EF15#32
  | 63 => 0x3F28CAE3#32
  | 64 => 0xBF5DB3D7#32
  | 65 => 0x3F7B14BE#32
  | 66 => 0xBF7DCF55#32
  | 67 => 0x3F659974#32
  | 68 => 0xBF3504F3#32
  | 69 => 0x3EE273AA#32
  | 70 => 0xBE05A8A8#32
  | 71 => 0xBE47C5C2#32
  | 72 => 0x3F000000#32
  | 73 => 0xBF407893#32
  | 74 => 0x3F6C835E#32
  | 75 => 0xBF7F73AF#32
  | 76 => 0x3F7746EA#32
  | 77 => 0xBF54DB31#32
  | 78 => 0x3F1BD7CA#32
  | 79 => 0xBEA493B7#32
  | 80 => 0xA50D3132#32
  | 81 => 0x3EA493B7#32
  | 82 => 0xBF1BD7CA#32
  | 83 => 0x3F54DB31#32
  | 84 => 0xBF7746EA#32
  | 85 => 0x3F7F73AF#32
  | 86 => 0xBF6C835E#32
  | 87 => 0x3F407893#32
  | 88 => 0xBF000000#32
  | 89 => 0x3E47C5C2#32
  | 90 => 0x3E05A8A8#32
  | 91 => 0xBEE273AA#32
  | 92 => 0x3F3504F3#32
  | 93 => 0xBF659974#32
  | 94 => 0x3F7DCF55#32
  | 95 => 0xBF7B14BE#32
  | 96 => 0x3F5DB3D7#32
  | 97 => 0xBF28CAE3#32
  | 98 => 0x3EC3EF15#32
  | 99 => 0xBD85F213#32
  | 100 => 0xBE8483EE#32
  | 101 => 0x3F0E39DA#32
  | 102 => 0xBF4B1934#32
  | 103 => 0x3F726A03#32
  | 104 => 0xBF800000#32
  | 105 => 0x3F726A03#32
  | 106 => 0xBF4B1934#32
  | 107 => 0x3F0E39DA#32
  | 108 => 0xBE8483EE#32
  | 109 => 0xBD85F213#32
  | 110 => 0x3EC3EF15#32
  | 111 => 0xBF28CAE3#32
  | 112 => 0x3F5DB3D7#32
  | 113 => 0xBF7B14BE#32
  | 114 => 0x3F7DCF55#32
  | 115 => 0xBF659974#32
  | 116 => 0x3F3504F3#32
  | 117 => 0xBEE273AA#32
  | 118 => 0x3E05A8A8#32
  | 119 => 0x3E47C5C2#32
  | 120 => 0xBF000000#32
  | 121 => 0x3F407893#32
  | 122 => 0xBF6C835E#32
  | 123 => 0x3F7F73AF#32
  | 124 => 0xBF7746EA#32
  | 125 => 0x3F54DB31#32
  | 126 => 0xBF1BD7CA#32
  | 127 => 0x3EA493B7#32
  | _ => 0#32

noncomputable abbrev lit1t0_291 (i : Nat) : BitVec 32 := match i % 128 with
  | 0 => 0x80000000#32
  | 1 => 0xBEA493B7#32
  | 2 => 0x3F1BD7CA#32
  | 3 => 0xBF54DB31#32
  | 4 => 0x3F7746EA#32
  | 5 => 0xBF7F73AF#32
  | 6 => 0x3F6C835E#32
  | 7 => 0xBF407893#32
  | 8 => 0x3F000000#32
  | 9 => 0xBE47C5C2#32
  | 10 => 0xBE05A8A8#32
  | 11 => 0x3EE273AA#32
  | 12 => 0xBF3504F3#32
  | 13 => 0x3F659974#32
  | 14 => 0xBF7DCF55#32
  | 15 => 0x3F7B14BE#32
  | 16 => 0xBF5DB3D7#32
  | 17 => 0x3F28CAE3#32
  | 18 => 0xBEC3EF15#32
  | 19 => 0x3D85F213#32
  | 20 => 0x3E8483EE#32
  | 21 => 0xBF0E39DA#32
  | 22 => 0x3F4B1934#32
  | 23 => 0xBF726A03#32
  | 24 => 0x3F800000#32
  | 25 => 0xBF726A03#32
  | 26 => 0x3F4B1934#32
  | 27 => 0xBF0E39DA#32
  | 28 => 0x3E8483EE#32
  | 29 => 0x3D85F213#32
  | 30 => 0xBEC3EF15#32
  | 31 => 0x3F28CAE3#32
  | 32 => 0xBF5DB3D7#32
  | 33 => 0x3F7B14BE#32
  | 34 => 0xBF7DCF55#32
  | 35 => 0x3F659974#32
  | 36 => 0xBF3504F3#32
  | 37 => 0x3EE273AA#32
  | 38 => 0xBE05A8A8#32
  | 39 => 0xBE47C5C2#32
  | 40 => 0x3F000000#32
  | 41 => 0xBF407893#32
  | 42 => 0x3F6C835E#32
  | 43 => 0xBF7F73AF#32
  | 44 => 0x3F7746EA#32
  | 45 => 0xBF54DB31#32
  | 46 => 0x3F1BD7CA#32
  | 47 => 0xBEA493B7#32
  | 48 => 0xA50D3132#32
  | 49 => 0x3EA493B7#32
  | 50 => 0xBF1BD7CA#32
  | 51 => 0x3F54DB31#32
  | 52 => 0xBF7746EA#32
  | 53 => 0x3F7F73AF#32
  | 54 => 0xBF6C835E#32
  | 55 => 0x3F407893#32
  | 56 => 0xBF000000#32
  | 57 => 0x3E47C5C2#32
  | 58 => 0x3E05A8A8#32
  | 59 => 0xBEE273AA#32
  | 60 => 0x3F3504F3#32
  | 61 => 0xBF659974#32
  | 62 => 0x3F7DCF55#32
  | 63 => 0xBF7B14BE#32
  | 64 => 0x3F5DB3D7#32
  | 65 => 0xBF28CAE3#32
  | 66 => 0x3EC3EF15#32
  | 67 => 0xBD85F213#32
  | 68 => 0xBE8483EE#32
  | 69 => 0x3F0E39DA#32
  | 70 => 0xBF4B1934#32
  | 71 => 0x3F726A03#32
  | 72 => 0xBF800000#32
  | 73 => 0x3F726A03#32
  | 74 => 0xBF4B1934#32
  | 75 => 0x3F0E39DA#32
  | 76 => 0xBE8483EE#32
  | 77 => 0xBD85F213#32
  | 78 => 0x3EC3EF15#32
  | 79 => 0xBF28CAE3#32
  | 80 => 0x3F5DB3D7#32
  | 81 => 0xBF7B14BE#32
  | 82 => 0x3F7DCF55#32
  | 83 => 0xBF659974#32
  | 84 => 0x3F3504F3#32
  | 85 => 0xBEE273AA#32
  | 86 => 0x3E05A8A8#32
  | 87 => 0x3E47C5C2#32
  | 88 => 0xBF000000#32
  | 89 => 0x3F407893#32
  | 90 => 0xBF6C835E#32
  | 91 => 0x3F7F73AF#32
  | 92 => 0xBF7746EA#32
  | 93 => 0x3F54DB31#32
  | 94 => 0xBF1BD7CA#32
  | 95 => 0x3EA493B7#32
  | 96 => 0x80000000#32
  | 97 => 0xBEA493B7#32
  | 98 => 0x3F1BD7CA#32
  | 99 => 0xBF54DB31#32
  | 100 => 0x3F7746EA#32
  | 101 => 0xBF7F73AF#32
  | 102 => 0x3F6C835E#32
  | 103 => 0xBF407893#32
  | 104 => 0x3F000000#32
  | 105 => 0xBE47C5C2#32
  | 106 => 0xBE05A8A8#32
  | 107 => 0x3EE273AA#32
  | 108 => 0xBF3504F3#32
  | 109 => 0x3F659974#32
  | 110 => 0xBF7DCF55#32
  | 111 => 0x3F7B14BE#32
  | 112 => 0xBF5DB3D7#32
  | 113 => 0x3F28CAE3#32
  | 114 => 0xBEC3EF15#32
  | 115 => 0x3D85F213#32
  | 116 => 0x3E8483EE#32
  | 117 => 0xBF0E39DA#32
  | 118 => 0x3F4B1934#32
  | 119 => 0xBF726A03#32
  | 120 => 0x3F800000#32
  | 121 => 0xBF726A03#32
  | 122 => 0x3F4B1934#32
  | 123 => 0xBF0E39DA#32
  | 124 => 0x3E8483EE#32
  | 125 => 0x3D85F213#32
  | 126 => 0xBEC3EF15#32
  | 127 => 0x3F28CAE3#32
  | _ => 0#32

noncomputable abbrev lit1t0_292 (i : Nat) : BitVec 32 := match i % 128 with
  | 0 => 0xBF5DB3D7#32
  | 1 => 0x3F7B14BE#32
  | 2 => 0xBF7DCF55#32
  | 3 => 0x3F659974#32
  | 4 => 0xBF3504F3#32
  | 5 => 0x3EE273AA#32
  | 6 => 0xBE05A8A8#32
  | 7 => 0xBE47C5C2#32
  | 8 => 0x3F000000#32
  | 9 => 0xBF407893#32
  | 10 => 0x3F6C835E#32
  | 11 => 0xBF7F73AF#32
  | 12 => 0x3F7746EA#32
  | 13 => 0xBF54DB31#32
  | 14 => 0x3F1BD7CA#32
  | 15 => 0xBEA493B7#32
  | 16 => 0xA50D3132#32
  | 17 => 0x3EA493B7#32
  | 18 => 0xBF1BD7CA#32
  | 19 => 0x3F54DB31#32
  | 20 => 0xBF7746EA#32
  | 21 => 0x3F7F73AF#32
  | 22 => 0xBF6C835E#32
  | 23 => 0x3F407893#32
  | 24 => 0xBF000000#32
  | 25 => 0x3E47C5C2#32
  | 26 => 0x3E05A8A8#32
  | 27 => 0xBEE273AA#32
  | 28 => 0x3F3504F3#32
  | 29 => 0xBF659974#32
  | 30 => 0x3F7DCF55#32
  | 31 => 0xBF7B14BE#32
  | 32 => 0x3F5DB3D7#32
  | 33 => 0xBF28CAE3#32
  | 34 => 0x3EC3EF15#32
  | 35 => 0xBD85F213#32
  | 36 => 0xBE8483EE#32
  | 37 => 0x3F0E39DA#32
  | 38 => 0xBF4B1934#32
  | 39 => 0x3F726A03#32
  | 40 => 0xBF800000#32
  | 41 => 0x3F726A03#32
  | 42 => 0xBF4B1934#32
  | 43 => 0x3F0E39DA#32
  | 44 => 0xBE8483EE#32
  | 45 => 0xBD85F213#32
  | 46 => 0x3EC3EF15#32
  | 47 => 0xBF28CAE3#32
  | 48 => 0x3F5DB3D7#32
  | 49 => 0xBF7B14BE#32
  | 50 => 0x3F7DCF55#32
  | 51 => 0xBF659974#32
  | 52 => 0x3F3504F3#32
  | 53 => 0xBEE273AA#32
  | 54 => 0x3E05A8A8#32
  | 55 => 0x3E47C5C2#32
  | 56 => 0xBF000000#32
  | 57 => 0x3F407893#32
  | 58 => 0xBF6C835E#32
  | 59 => 0x3F7F73AF#32
  | 60 => 0xBF7746EA#32
  | 61 => 0x3F54DB31#32
  | 62 => 0xBF1BD7CA#32
  | 63 => 0x3EA493B7#32
  | 64 => 0x80000000#32
  | 65 => 0xBE99F61C#32
  | 66 => 0x3F12D5E8#32
  | 67 => 0xBF4B1934#32
  | 68 => 0x3F708FB2#32
  | 69 => 0xBF7FC1A0#32
  | 70 => 0x3F7746EA#32
  | 71 => 0xBF57E880#32
  | 72 => 0x3F248DBB#32
  | 73 => 0xBEC3EF15#32
  | 74 => 0x3DB27EB6#32
  | 75 => 0x3E5DA259#32
  | 76 => 0xBF000000#32
  | 77 => 0x3F3CBE35#32
  | 78 => 0xBF6803CA#32
  | 79 => 0x3F7DCF55#32
  | 80 => 0xBF7C1C5C#32
  | 81 => 0x3F631324#32
  | 82 => 0xBF3504F3#32
  | 83 => 0x3EEC6A50#32
  | 84 => 0xBE31D0D4#32
  | 85 => 0xBE05A8A8#32
  | 86 => 0x3ED8616C#32
  | 87 => 0xBF2CF37B#32
  | 88 => 0x3F5DB3D7#32
  | 89 => 0xBF79EE89#32
  | 90 => 0x3F7F069E#32
  | 91 => 0xBF6C835E#32
  | 92 => 0x3F441B7D#32
  | 93 => 0xBF098C78#32
  | 94 => 0x3E8483EE#32
  | 95 => 0x3D32AA3E#32
  | 96 => 0xBEAF1D44#32
  | 97 => 0x3F1BD7CA#32
  | 98 => 0xBF51B3F3#32
  | 99 => 0x3F7426CB#32
  | 100 => 0xBF800000#32
  | 101 => 0x3F7426CB#32
  | 102 => 0xBF51B3F3#32
  | 103 => 0x3F1BD7CA#32
  | 104 => 0xBEAF1D44#32
  | 105 => 0x3D32AA3E#32
  | 106 => 0x3E8483EE#32
  | 107 => 0xBF098C78#32
  | 108 => 0x3F441B7D#32
  | 109 => 0xBF6C835E#32
  | 110 => 0x3F7F069E#32
  | 111 => 0xBF79EE89#32
  | 112 => 0x3F5DB3D7#32
  | 113 => 0xBF2CF37B#32
  | 114 => 0x3ED8616C#32
  | 115 => 0xBE05A8A8#32
  | 116 => 0xBE31D0D4#32
  | 117 => 0x3EEC6A50#32
  | 118 => 0xBF3504F3#32
  | 119 => 0x3F631324#32
  | 120 => 0xBF7C1C5C#32
  | 121 => 0x3F7DCF55#32
  | 122 => 0xBF6803CA#32
  | 123 => 0x3F3CBE35#32
  | 124 => 0xBF000000#32
  | 125 => 0x3E5DA259#32
  | 126 => 0x3DB27EB6#32
  | 127 => 0xBEC3EF15#32
  | _ => 0#32

noncomputable abbrev lit1t0_293 (i : Nat) : BitVec 32 := match i % 128 with
  | 0 => 0x3F248DBB#32
  | 1 => 0xBF57E880#32
  | 2 => 0x3F7746EA#32
  | 3 => 0xBF7FC1A0#32
  | 4 => 0x3F708FB2#32
  | 5 => 0xBF4B1934#32
  | 6 => 0x3F12D5E8#32
  | 7 => 0xBE99F61C#32
  | 8 => 0xA50D3132#32
  | 9 => 0x3E99F61C#32
  | 10 => 0xBF12D5E8#32
  | 11 => 0x3F4B1934#32
  | 12 => 0xBF708FB2#32
  | 13 => 0x3F7FC1A0#32
  | 14 => 0xBF7746EA#32
  | 15 => 0x3F57E880#32
  | 16 => 0xBF248DBB#32
  | 17 => 0x3EC3EF15#32
  | 18 => 0xBDB27EB6#32
  | 19 => 0xBE5DA259#32
  | 20 => 0x3F000000#32
  | 21 => 0xBF3CBE35#32
  | 22 => 0x3F6803CA#32
  | 23 => 0xBF7DCF55#32
  | 24 => 0x3F7C1C5C#32
  | 25 => 0xBF631324#32
  | 26 => 0x3F3504F3#32
  | 27 => 0xBEEC6A50#32
  | 28 => 0x3E31D0D4#32
  | 29 => 0x3E05A8A8#32
  | 30 => 0xBED8616C#32
  | 31 => 0x3F2CF37B#32
  | 32 => 0xBF5DB3D7#32
  | 33 => 0x3F79EE89#32
  | 34 => 0xBF7F069E#32
  | 35 => 0x3F6C835E#32
  | 36 => 0xBF441B7D#32
  | 37 => 0x3F098C78#32
  | 38 => 0xBE8483EE#32
  | 39 => 0xBD32AA3E#32
  | 40 => 0x3EAF1D44#32
  | 41 => 0xBF1BD7CA#32
  | 42 => 0x3F51B3F3#32
  | 43 => 0xBF7426CB#32
  | 44 => 0x3F800000#32
  | 45 => 0xBF7426CB#32
  | 46 => 0x3F51B3F3#32
  | 47 => 0xBF1BD7CA#32
  | 48 => 0x3EAF1D44#32
  | 49 => 0xBD32AA3E#32
  | 50 => 0xBE8483EE#32
  | 51 => 0x3F098C78#32
  | 52 => 0xBF441B7D#32
  | 53 => 0x3F6C835E#32
  | 54 => 0xBF7F069E#32
  | 55 => 0x3F79EE89#32
  | 56 => 0xBF5DB3D7#32
  | 57 => 0x3F2CF37B#32
  | 58 => 0xBED8616C#32
  | 59 => 0x3E05A8A8#32
  | 60 => 0x3E31D0D4#32
  | 61 => 0xBEEC6A50#32
  | 62 => 0x3F3504F3#32
  | 63 => 0xBF631324#32
  | 64 => 0x3F7C1C5C#32
  | 65 => 0xBF7DCF55#32
  | 66 => 0x3F6803CA#32
  | 67 => 0xBF3CBE35#32
  | 68 => 0x3F000000#32
  | 69 => 0xBE5DA259#32
  | 70 => 0xBDB27EB6#32
  | 71 => 0x3EC3EF15#32
  | 72 => 0xBF248DBB#32
  | 73 => 0x3F57E880#32
  | 74 => 0xBF7746EA#32
  | 75 => 0x3F7FC1A0#32
  | 76 => 0xBF708FB2#32
  | 77 => 0x3F4B1934#32
  | 78 => 0xBF12D5E8#32
  | 79 => 0x3E99F61C#32
  | 80 => 0x80000000#32
  | 81 => 0xBE99F61C#32
  | 82 => 0x3F12D5E8#32
  | 83 => 0xBF4B1934#32
  | 84 => 0x3F708FB2#32
  | 85 => 0xBF7FC1A0#32
  | 86 => 0x3F7746EA#32
  | 87 => 0xBF57E880#32
  | 88 => 0x3F248DBB#32
  | 89 => 0xBEC3EF15#32
  | 90 => 0x3DB27EB6#32
  | 91 => 0x3E5DA259#32
  | 92 => 0xBF000000#32
  | 93 => 0x3F3CBE35#32
  | 94 => 0xBF6803CA#32
  | 95 => 0x3F7DCF55#32
  | 96 => 0xBF7C1C5C#32
  | 97 => 0x3F631324#32
  | 98 => 0xBF3504F3#32
  | 99 => 0x3EEC6A50#32
  | 100 => 0xBE31D0D4#32
  | 101 => 0xBE05A8A8#32
  | 102 => 0x3ED8616C#32
  | 103 => 0xBF2CF37B#32
  | 104 => 0x3F5DB3D7#32
  | 105 => 0xBF79EE89#32
  | 106 => 0x3F7F069E#32
  | 107 => 0xBF6C835E#32
  | 108 => 0x3F441B7D#32
  | 109 => 0xBF098C78#32
  | 110 => 0x3E8483EE#32
  | 111 => 0x3D32AA3E#32
  | 112 => 0xBEAF1D44#32
  | 113 => 0x3F1BD7CA#32
  | 114 => 0xBF51B3F3#32
  | 115 => 0x3F7426CB#32
  | 116 => 0xBF800000#32
  | 117 => 0x3F7426CB#32
  | 118 => 0xBF51B3F3#32
  | 119 => 0x3F1BD7CA#32
  | 120 => 0xBEAF1D44#32
  | 121 => 0x3D32AA3E#32
  | 122 => 0x3E8483EE#32
  | 123 => 0xBF098C78#32
  | 124 => 0x3F441B7D#32
  | 125 => 0xBF6C835E#32
  | 126 => 0x3F7F069E#32
  | 127 => 0xBF79EE89#32
  | _ => 0#32

noncomputable abbrev lit1t0_294 (i : Nat) : BitVec 32 := match i % 128 with
  | 0 => 0x3F5DB3D7#32
  | 1 => 0xBF2CF37B#32
  | 2 => 0x3ED8616C#32
  | 3 => 0xBE05A8A8#32
  | 4 => 0xBE31D0D4#32
  | 5 => 0x3EEC6A50#32
  | 6 => 0xBF3504F3#32
  | 7 => 0x3F631324#32
  | 8 => 0xBF7C1C5C#32
  | 9 => 0x3F7DCF55#32
  | 10 => 0xBF6803CA#32
  | 11 => 0x3F3CBE35#32
  | 12 => 0xBF000000#32
  | 13 => 0x3E5DA259#32
  | 14 => 0x3DB27EB6#32
  | 15 => 0xBEC3EF15#32
  | 16 => 0x3F248DBB#32
  | 17 => 0xBF57E880#32
  | 18 => 0x3F7746EA#32
  | 19 => 0xBF7FC1A0#32
  | 20 => 0x3F708FB2#32
  | 21 => 0xBF4B1934#32
  | 22 => 0x3F12D5E8#32
  | 23 => 0xBE99F61C#32
  | 24 => 0xA50D3132#32
  | 25 => 0x3E99F61C#32
  | 26 => 0xBF12D5E8#32
  | 27 => 0x3F4B1934#32
  | 28 => 0xBF708FB2#32
  | 29 => 0x3F7FC1A0#32
  | 30 => 0xBF7746EA#32
  | 31 => 0x3F57E880#32
  | 32 => 0xBF248DBB#32
  | 33 => 0x3EC3EF15#32
  | 34 => 0xBDB27EB6#32
  | 35 => 0xBE5DA259#32
  | 36 => 0x3F000000#32
  | 37 => 0xBF3CBE35#32
  | 38 => 0x3F6803CA#32
  | 39 => 0xBF7DCF55#32
  | 40 => 0x3F7C1C5C#32
  | 41 => 0xBF631324#32
  | 42 => 0x3F3504F3#32
  | 43 => 0xBEEC6A50#32
  | 44 => 0x3E31D0D4#32
  | 45 => 0x3E05A8A8#32
  | 46 => 0xBED8616C#32
  | 47 => 0x3F2CF37B#32
  | 48 => 0xBF5DB3D7#32
  | 49 => 0x3F79EE89#32
  | 50 => 0xBF7F069E#32
  | 51 => 0x3F6C835E#32
  | 52 => 0xBF441B7D#32
  | 53 => 0x3F098C78#32
  | 54 => 0xBE8483EE#32
  | 55 => 0xBD32AA3E#32
  | 56 => 0x3EAF1D44#32
  | 57 => 0xBF1BD7CA#32
  | 58 => 0x3F51B3F3#32
  | 59 => 0xBF7426CB#32
  | 60 => 0x3F800000#32
  | 61 => 0xBF7426CB#32
  | 62 => 0x3F51B3F3#32
  | 63 => 0xBF1BD7CA#32
  | 64 => 0x3EAF1D44#32
  | 65 => 0xBD32AA3E#32
  | 66 => 0xBE8483EE#32
  | 67 => 0x3F098C78#32
  | 68 => 0xBF441B7D#32
  | 69 => 0x3F6C835E#32
  | 70 => 0xBF7F069E#32
  | 71 => 0x3F79EE89#32
  | 72 => 0xBF5DB3D7#32
  | 73 => 0x3F2CF37B#32
  | 74 => 0xBED8616C#32
  | 75 => 0x3E05A8A8#32
  | 76 => 0x3E31D0D4#32
  | 77 => 0xBEEC6A50#32
  | 78 => 0x3F3504F3#32
  | 79 => 0xBF631324#32
  | 80 => 0x3F7C1C5C#32
  | 81 => 0xBF7DCF55#32
  | 82 => 0x3F6803CA#32
  | 83 => 0xBF3CBE35#32
  | 84 => 0x3F000000#32
  | 85 => 0xBE5DA259#32
  | 86 => 0xBDB27EB6#32
  | 87 => 0x3EC3EF15#32
  | 88 => 0xBF248DBB#32
  | 89 => 0x3F57E880#32
  | 90 => 0xBF7746EA#32
  | 91 => 0x3F7FC1A0#32
  | 92 => 0xBF708FB2#32
  | 93 => 0x3F4B1934#32
  | 94 => 0xBF12D5E8#32
  | 95 => 0x3E99F61C#32
  | 96 => 0x80000000#32
  | 97 => 0xBE8F45C0#32
  | 98 => 0x3F098C78#32
  | 99 => 0xBF407893#32
  | 100 => 0x3F6803CA#32
  | 101 => 0xBF7D0543#32
  | 102 => 0x3F7DCF55#32
  | 103 => 0xBF6A51DA#32
  | 104 => 0x3F441B7D#32
  | 105 => 0xBF0E39DA#32
  | 106 => 0x3E99F61C#32
  | 107 => 0xBCB2B521#32
  | 108 => 0xBE8483EE#32
  | 109 => 0x3F04CE53#32
  | 110 => 0xBF3CBE35#32
  | 111 => 0x3F659974#32
  | 112 => 0xBF7C1C5C#32
  | 113 => 0x3F7E7A7A#32
  | 114 => 0xBF6C835E#32
  | 115 => 0x3F47A682#32
  | 116 => 0xBF12D5E8#32
  | 117 => 0x3EA493B7#32
  | 118 => 0xBD32AA3E#32
  | 119 => 0xBE7363EE#32
  | 120 => 0x3F000000#32
  | 121 => 0xBF38ECD8#32
  | 122 => 0x3F631324#32
  | 123 => 0xBF7B14BE#32
  | 124 => 0x3F7F069E#32
  | 125 => 0xBF6E9811#32
  | 126 => 0x3F4B1934#32
  | 127 => 0xBF176012#32
  | _ => 0#32

noncomputable abbrev lit1t0_295 (i : Nat) : BitVec 32 := match i % 128 with
  | 0 => 0x3EAF1D44#32
  | 1 => 0xBD85F213#32
  | 2 => 0xBE5DA259#32
  | 3 => 0x3EF64429#32
  | 4 => 0xBF3504F3#32
  | 5 => 0x3F60712A#32
  | 6 => 0xBF79EE89#32
  | 7 => 0x3F7F73AF#32
  | 8 => 0xBF708FB2#32
  | 9 => 0x3F4E7327#32
  | 10 => 0xBF1BD7CA#32
  | 11 => 0x3EB9917B#32
  | 12 => 0xBDB27EB6#32
  | 13 => 0xBE47C5C2#32
  | 14 => 0x3EEC6A50#32
  | 15 => 0xBF310700#32
  | 16 => 0x3F5DB3D7#32
  | 17 => 0xBF78A9E0#32
  | 18 => 0x3F7FC1A0#32
  | 19 => 0xBF726A03#32
  | 20 => 0x3F51B3F3#32
  | 21 => 0xBF203C85#32
  | 22 => 0x3EC3EF15#32
  | 23 => 0xBDDEF599#32
  | 24 => 0xBE31D0D4#32
  | 25 => 0x3EE273AA#32
  | 26 => 0xBF2CF37B#32
  | 27 => 0x3F5ADB81#32
  | 28 => 0xBF7746EA#32
  | 29 => 0x3F7FF067#32
  | 30 => 0xBF7426CB#32
  | 31 => 0x3F54DB31#32
  | 32 => 0xBF248DBB#32
  | 33 => 0x3ECE34D0#32
  | 34 => 0xBE05A8A8#32
  | 35 => 0xBE1BC63C#32
  | 36 => 0x3ED8616C#32
  | 37 => 0xBF28CAE3#32
  | 38 => 0x3F57E880#32
  | 39 => 0xBF75C5D4#32
  | 40 => 0x3F800000#32
  | 41 => 0xBF75C5D4#32
  | 42 => 0x3F57E880#32
  | 43 => 0xBF28CAE3#32
  | 44 => 0x3ED8616C#32
  | 45 => 0xBE1BC63C#32
  | 46 => 0xBE05A8A8#32
  | 47 => 0x3ECE34D0#32
  | 48 => 0xBF248DBB#32
  | 49 => 0x3F54DB31#32
  | 50 => 0xBF7426CB#32
  | 51 => 0x3F7FF067#32
  | 52 => 0xBF7746EA#32
  | 53 => 0x3F5ADB81#32
  | 54 => 0xBF2CF37B#32
  | 55 => 0x3EE273AA#32
  | 56 => 0xBE31D0D4#32
  | 57 => 0xBDDEF599#32
  | 58 => 0x3EC3EF15#32
  | 59 => 0xBF203C85#32
  | 60 => 0x3F51B3F3#32
  | 61 => 0xBF726A03#32
  | 62 => 0x3F7FC1A0#32
  | 63 => 0xBF78A9E0#32
  | 64 => 0x3F5DB3D7#32
  | 65 => 0xBF310700#32
  | 66 => 0x3EEC6A50#32
  | 67 => 0xBE47C5C2#32
  | 68 => 0xBDB27EB6#32
  | 69 => 0x3EB9917B#32
  | 70 => 0xBF1BD7CA#32
  | 71 => 0x3F4E7327#32
  | 72 => 0xBF708FB2#32
  | 73 => 0x3F7F73AF#32
  | 74 => 0xBF79EE89#32
  | 75 => 0x3F60712A#32
  | 76 => 0xBF3504F3#32
  | 77 => 0x3EF64429#32
  | 78 => 0xBE5DA259#32
  | 79 => 0xBD85F213#32
  | 80 => 0x3EAF1D44#32
  | 81 => 0xBF176012#32
  | 82 => 0x3F4B1934#32
  | 83 => 0xBF6E9811#32
  | 84 => 0x3F7F069E#32
  | 85 => 0xBF7B14BE#32
  | 86 => 0x3F631324#32
  | 87 => 0xBF38ECD8#32
  | 88 => 0x3F000000#32
  | 89 => 0xBE7363EE#32
  | 90 => 0xBD32AA3E#32
  | 91 => 0x3EA493B7#32
  | 92 => 0xBF12D5E8#32
  | 93 => 0x3F47A682#32
  | 94 => 0xBF6C835E#32
  | 95 => 0x3F7E7A7A#32
  | 96 => 0xBF7C1C5C#32
  | 97 => 0x3F659974#32
  | 98 => 0xBF3CBE35#32
  | 99 => 0x3F04CE53#32
  | 100 => 0xBE8483EE#32
  | 101 => 0xBCB2B521#32
  | 102 => 0x3E99F61C#32
  | 103 => 0xBF0E39DA#32
  | 104 => 0x3F441B7D#32
  | 105 => 0xBF6A51DA#32
  | 106 => 0x3F7DCF55#32
  | 107 => 0xBF7D0543#32
  | 108 => 0x3F6803CA#32
  | 109 => 0xBF407893#32
  | 110 => 0x3F098C78#32
  | 111 => 0xBE8F45C0#32
  | 112 => 0xA50D3132#32
  | 113 => 0x3E8F45C0#32
  | 114 => 0xBF098C78#32
  | 115 => 0x3F407893#32
  | 116 => 0xBF6803CA#32
  | 117 => 0x3F7D0543#32
  | 118 => 0xBF7DCF55#32
  | 119 => 0x3F6A51DA#32
  | 120 => 0xBF441B7D#32
  | 121 => 0x3F0E39DA#32
  | 122 => 0xBE99F61C#32
  | 123 => 0x3CB2B521#32
  | 124 => 0x3E8483EE#32
  | 125 => 0xBF04CE53#32
  | 126 => 0x3F3CBE35#32
  | 127 => 0xBF659974#32
  | _ => 0#32

noncomputable abbrev lit1t0_296 (i : Nat) : BitVec 32 := match i % 128 with
  | 0 => 0x3F7C1C5C#32
  | 1 => 0xBF7E7A7A#32
  | 2 => 0x3F6C835E#32
  | 3 => 0xBF47A682#32
  | 4 => 0x3F12D5E8#32
  | 5 => 0xBEA493B7#32
  | 6 => 0x3D32AA3E#32
  | 7 => 0x3E7363EE#32
  | 8 => 0xBF000000#32
  | 9 => 0x3F38ECD8#32
  | 10 => 0xBF631324#32
  | 11 => 0x3F7B14BE#32
  | 12 => 0xBF7F069E#32
  | 13 => 0x3F6E9811#32
  | 14 => 0xBF4B1934#32
  | 15 => 0x3F176012#32
  | 16 => 0xBEAF1D44#32
  | 17 => 0x3D85F213#32
  | 18 => 0x3E5DA259#32
  | 19 => 0xBEF64429#32
  | 20 => 0x3F3504F3#32
  | 21 => 0xBF60712A#32
  | 22 => 0x3F79EE89#32
  | 23 => 0xBF7F73AF#32
  | 24 => 0x3F708FB2#32
  | 25 => 0xBF4E7327#32
  | 26 => 0x3F1BD7CA#32
  | 27 => 0xBEB9917B#32
  | 28 => 0x3DB27EB6#32
  | 29 => 0x3E47C5C2#32
  | 30 => 0xBEEC6A50#32
  | 31 => 0x3F310700#32
  | 32 => 0xBF5DB3D7#32
  | 33 => 0x3F78A9E0#32
  | 34 => 0xBF7FC1A0#32
  | 35 => 0x3F726A03#32
  | 36 => 0xBF51B3F3#32
  | 37 => 0x3F203C85#32
  | 38 => 0xBEC3EF15#32
  | 39 => 0x3DDEF599#32
  | 40 => 0x3E31D0D4#32
  | 41 => 0xBEE273AA#32
  | 42 => 0x3F2CF37B#32
  | 43 => 0xBF5ADB81#32
  | 44 => 0x3F7746EA#32
  | 45 => 0xBF7FF067#32
  | 46 => 0x3F7426CB#32
  | 47 => 0xBF54DB31#32
  | 48 => 0x3F248DBB#32
  | 49 => 0xBECE34D0#32
  | 50 => 0x3E05A8A8#32
  | 51 => 0x3E1BC63C#32
  | 52 => 0xBED8616C#32
  | 53 => 0x3F28CAE3#32
  | 54 => 0xBF57E880#32
  | 55 => 0x3F75C5D4#32
  | 56 => 0xBF800000#32
  | 57 => 0x3F75C5D4#32
  | 58 => 0xBF57E880#32
  | 59 => 0x3F28CAE3#32
  | 60 => 0xBED8616C#32
  | 61 => 0x3E1BC63C#32
  | 62 => 0x3E05A8A8#32
  | 63 => 0xBECE34D0#32
  | 64 => 0x3F248DBB#32
  | 65 => 0xBF54DB31#32
  | 66 => 0x3F7426CB#32
  | 67 => 0xBF7FF067#32
  | 68 => 0x3F7746EA#32
  | 69 => 0xBF5ADB81#32
  | 70 => 0x3F2CF37B#32
  | 71 => 0xBEE273AA#32
  | 72 => 0x3E31D0D4#32
  | 73 => 0x3DDEF599#32
  | 74 => 0xBEC3EF15#32
  | 75 => 0x3F203C85#32
  | 76 => 0xBF51B3F3#32
  | 77 => 0x3F726A03#32
  | 78 => 0xBF7FC1A0#32
  | 79 => 0x3F78A9E0#32
  | 80 => 0xBF5DB3D7#32
  | 81 => 0x3F310700#32
  | 82 => 0xBEEC6A50#32
  | 83 => 0x3E47C5C2#32
  | 84 => 0x3DB27EB6#32
  | 85 => 0xBEB9917B#32
  | 86 => 0x3F1BD7CA#32
  | 87 => 0xBF4E7327#32
  | 88 => 0x3F708FB2#32
  | 89 => 0xBF7F73AF#32
  | 90 => 0x3F79EE89#32
  | 91 => 0xBF60712A#32
  | 92 => 0x3F3504F3#32
  | 93 => 0xBEF64429#32
  | 94 => 0x3E5DA259#32
  | 95 => 0x3D85F213#32
  | 96 => 0xBEAF1D44#32
  | 97 => 0x3F176012#32
  | 98 => 0xBF4B1934#32
  | 99 => 0x3F6E9811#32
  | 100 => 0xBF7F069E#32
  | 101 => 0x3F7B14BE#32
  | 102 => 0xBF631324#32
  | 103 => 0x3F38ECD8#32
  | 104 => 0xBF000000#32
  | 105 => 0x3E7363EE#32
  | 106 => 0x3D32AA3E#32
  | 107 => 0xBEA493B7#32
  | 108 => 0x3F12D5E8#32
  | 109 => 0xBF47A682#32
  | 110 => 0x3F6C835E#32
  | 111 => 0xBF7E7A7A#32
  | 112 => 0x3F7C1C5C#32
  | 113 => 0xBF659974#32
  | 114 => 0x3F3CBE35#32
  | 115 => 0xBF04CE53#32
  | 116 => 0x3E8483EE#32
  | 117 => 0x3CB2B521#32
  | 118 => 0xBE99F61C#32
  | 119 => 0x3F0E39DA#32
  | 120 => 0xBF441B7D#32
  | 121 => 0x3F6A51DA#32
  | 122 => 0xBF7DCF55#32
  | 123 => 0x3F7D0543#32
  | 124 => 0xBF6803CA#32
  | 125 => 0x3F407893#32
  | 126 => 0xBF098C78#32
  | 127 => 0x3E8F45C0#32
  | _ => 0#32

noncomputable abbrev lit1t0_297 (i : Nat) : BitVec 32 := match i % 128 with
  | 0 => 0x80000000#32
  | 1 => 0xBE8483EE#32
  | 2 => 0x3F000000#32
  | 3 => 0xBF3504F3#32
  | 4 => 0x3F5DB3D7#32
  | 5 => 0xBF7746EA#32
  | 6 => 0x3F800000#32
  | 7 => 0xBF7746EA#32
  | 8 => 0x3F5DB3D7#32
  | 9 => 0xBF3504F3#32
  | 10 => 0x3F000000#32
  | 11 => 0xBE8483EE#32
  | 12 => 0xA50D3132#32
  | 13 => 0x3E8483EE#32
  | 14 => 0xBF000000#32
  | 15 => 0x3F3504F3#32
  | 16 => 0xBF5DB3D7#32
  | 17 => 0x3F7746EA#32
  | 18 => 0xBF800000#32
  | 19 => 0x3F7746EA#32
  | 20 => 0xBF5DB3D7#32
  | 21 => 0x3F3504F3#32
  | 22 => 0xBF000000#32
  | 23 => 0x3E8483EE#32
  | 24 => 0x80000000#32
  | 25 => 0xBE8483EE#32
  | 26 => 0x3F000000#32
  | 27 => 0xBF3504F3#32
  | 28 => 0x3F5DB3D7#32
  | 29 => 0xBF7746EA#32
  | 30 => 0x3F800000#32
  | 31 => 0xBF7746EA#32
  | 32 => 0x3F5DB3D7#32
  | 33 => 0xBF3504F3#32
  | 34 => 0x3F000000#32
  | 35 => 0xBE8483EE#32
  | 36 => 0xA50D3132#32
  | 37 => 0x3E8483EE#32
  | 38 => 0xBF000000#32
  | 39 => 0x3F3504F3#32
  | 40 => 0xBF5DB3D7#32
  | 41 => 0x3F7746EA#32
  | 42 => 0xBF800000#32
  | 43 => 0x3F7746EA#32
  | 44 => 0xBF5DB3D7#32
  | 45 => 0x3F3504F3#32
  | 46 => 0xBF000000#32
  | 47 => 0x3E8483EE#32
  | 48 => 0x80000000#32
  | 49 => 0xBE8483EE#32
  | 50 => 0x3F000000#32
  | 51 => 0xBF3504F3#32
  | 52 => 0x3F5DB3D7#32
  | 53 => 0xBF7746EA#32
  | 54 => 0x3F800000#32
  | 55 => 0xBF7746EA#32
  | 56 => 0x3F5DB3D7#32
  | 57 => 0xBF3504F3#32
  | 58 => 0x3F000000#32
  | 59 => 0xBE8483EE#32
  | 60 => 0xA50D3132#32
  | 61 => 0x3E8483EE#32
  | 62 => 0xBF000000#32
  | 63 => 0x3F3504F3#32
  | 64 => 0xBF5DB3D7#32
  | 65 => 0x3F7746EA#32
  | 66 => 0xBF800000#32
  | 67 => 0x3F7746EA#32
  | 68 => 0xBF5DB3D7#32
  | 69 => 0x3F3504F3#32
  | 70 => 0xBF000000#32
  | 71 => 0x3E8483EE#32
  | 72 => 0x80000000#32
  | 73 => 0xBE8483EE#32
  | 74 => 0x3F000000#32
  | 75 => 0xBF3504F3#32
  | 76 => 0x3F5DB3D7#32
  | 77 => 0xBF7746EA#32
  | 78 => 0x3F800000#32
  | 79 => 0xBF7746EA#32
  | 80 => 0x3F5DB3D7#32
  | 81 => 0xBF3504F3#32
  | 82 => 0x3F000000#32
  | 83 => 0xBE8483EE#32
  | 84 => 0xA50D3132#32
  | 85 => 0x3E8483EE#32
  | 86 => 0xBF000000#32
  | 87 => 0x3F3504F3#32
  | 88 => 0xBF5DB3D7#32
  | 89 => 0x3F7746EA#32
  | 90 => 0xBF800000#32
  | 91 => 0x3F7746EA#32
  | 92 => 0xBF5DB3D7#32
  | 93 => 0x3F3504F3#32
  | 94 => 0xBF000000#32
  | 95 => 0x3E8483EE#32
  | 96 => 0x80000000#32
  | 97 => 0xBE8483EE#32
  | 98 => 0x3F000000#32
  | 99 => 0xBF3504F3#32
  | 100 => 0x3F5DB3D7#32
  | 101 => 0xBF7746EA#32
  | 102 => 0x3F800000#32
  | 103 => 0xBF7746EA#32
  | 104 => 0x3F5DB3D7#32
  | 105 => 0xBF3504F3#32
  | 106 => 0x3F000000#32
  | 107 => 0xBE8483EE#32
  | 108 => 0xA50D3132#32
  | 109 => 0x3E8483EE#32
  | 110 => 0xBF000000#32
  | 111 => 0x3F3504F3#32
  | 112 => 0xBF5DB3D7#32
  | 113 => 0x3F7746EA#32
  | 114 => 0xBF800000#32
  | 115 => 0x3F7746EA#32
  | 116 => 0xBF5DB3D7#32
  | 117 => 0x3F3504F3#32
  | 118 => 0xBF000000#32
  | 119 => 0x3E8483EE#32
  | 120 => 0x80000000#32
  | 121 => 0xBE8483EE#32
  | 122 => 0x3F000000#32
  | 123 => 0xBF3504F3#32
  | 124 => 0x3F5DB3D7#32
  | 125 => 0xBF7746EA#32
  | 126 => 0x3F800000#32
  | 127 => 0xBF7746EA#32
  | _ => 0#32

noncomputable abbrev lit1t0_298 (i : Nat) : BitVec 32 := match i % 128 with
  | 0 => 0x3F5DB3D7#32
  | 1 => 0xBF3504F3#32
  | 2 => 0x3F000000#32
  | 3 => 0xBE8483EE#32
  | 4 => 0xA50D3132#32
  | 5 => 0x3E8483EE#32
  | 6 => 0xBF000000#32
  | 7 => 0x3F3504F3#32
  | 8 => 0xBF5DB3D7#32
  | 9 => 0x3F7746EA#32
  | 10 => 0xBF800000#32
  | 11 => 0x3F7746EA#32
  | 12 => 0xBF5DB3D7#32
  | 13 => 0x3F3504F3#32
  | 14 => 0xBF000000#32
  | 15 => 0x3E8483EE#32
  | 16 => 0x80000000#32
  | 17 => 0xBE8483EE#32
  | 18 => 0x3F000000#32
  | 19 => 0xBF3504F3#32
  | 20 => 0x3F5DB3D7#32
  | 21 => 0xBF7746EA#32
  | 22 => 0x3F800000#32
  | 23 => 0xBF7746EA#32
  | 24 => 0x3F5DB3D7#32
  | 25 => 0xBF3504F3#32
  | 26 => 0x3F000000#32
  | 27 => 0xBE8483EE#32
  | 28 => 0xA50D3132#32
  | 29 => 0x3E8483EE#32
  | 30 => 0xBF000000#32
  | 31 => 0x3F3504F3#32
  | 32 => 0xBF5DB3D7#32
  | 33 => 0x3F7746EA#32
  | 34 => 0xBF800000#32
  | 35 => 0x3F7746EA#32
  | 36 => 0xBF5DB3D7#32
  | 37 => 0x3F3504F3#32
  | 38 => 0xBF000000#32
  | 39 => 0x3E8483EE#32
  | 40 => 0x80000000#32
  | 41 => 0xBE8483EE#32
  | 42 => 0x3F000000#32
  | 43 => 0xBF3504F3#32
  | 44 => 0x3F5DB3D7#32
  | 45 => 0xBF7746EA#32
  | 46 => 0x3F800000#32
  | 47 => 0xBF7746EA#32
  | 48 => 0x3F5DB3D7#32
  | 49 => 0xBF3504F3#32
  | 50 => 0x3F000000#32
  | 51 => 0xBE8483EE#32
  | 52 => 0xA50D3132#32
  | 53 => 0x3E8483EE#32
  | 54 => 0xBF000000#32
  | 55 => 0x3F3504F3#32
  | 56 => 0xBF5DB3D7#32
  | 57 => 0x3F7746EA#32
  | 58 => 0xBF800000#32
  | 59 => 0x3F7746EA#32
  | 60 => 0xBF5DB3D7#32
  | 61 => 0x3F3504F3#32
  | 62 => 0xBF000000#32
  | 63 => 0x3E8483EE#32
  | 64 => 0x80000000#32
  | 65 => 0xBE8483EE#32
  | 66 => 0x3F000000#32
  | 67 => 0xBF3504F3#32
  | 68 => 0x3F5DB3D7#32
  | 69 => 0xBF7746EA#32
  | 70 => 0x3F800000#32
  | 71 => 0xBF7746EA#32
  | 72 => 0x3F5DB3D7#32
  | 73 => 0xBF3504F3#32
  | 74 => 0x3F000000#32
  | 75 => 0xBE8483EE#32
  | 76 => 0xA50D3132#32
  | 77 => 0x3E8483EE#32
  | 78 => 0xBF000000#32
  | 79 => 0x3F3504F3#32
  | 80 => 0xBF5DB3D7#32
  | 81 => 0x3F7746EA#32
  | 82 => 0xBF800000#32
  | 83 => 0x3F7746EA#32
  | 84 => 0xBF5DB3D7#32
  | 85 => 0x3F3504F3#32
  | 86 => 0xBF000000#32
  | 87 => 0x3E8483EE#32
  | 88 => 0x80000000#32
  | 89 => 0xBE8483EE#32
  | 90 => 0x3F000000#32
  | 91 => 0xBF3504F3#32
  | 92 => 0x3F5DB3D7#32
  | 93 => 0xBF7746EA#32
  | 94 => 0x3F800000#32
  | 95 => 0xBF7746EA#32
  | 96 => 0x3F5DB3D7#32
  | 97 => 0xBF3504F3#32
  | 98 => 0x3F000000#32
  | 99 => 0xBE8483EE#32
  | 100 => 0xA50D3132#32
  | 101 => 0x3E8483EE#32
  | 102 => 0xBF000000#32
  | 103 => 0x3F3504F3#32
  | 104 => 0xBF5DB3D7#32
  | 105 => 0x3F7746EA#32
  | 106 => 0xBF800000#32
  | 107 => 0x3F7746EA#32
  | 108 => 0xBF5DB3D7#32
  | 109 => 0x3F3504F3#32
  | 110 => 0xBF000000#32
  | 111 => 0x3E8483EE#32
  | 112 => 0x80000000#32
  | 113 => 0xBE8483EE#32
  | 114 => 0x3F000000#32
  | 115 => 0xBF3504F3#32
  | 116 => 0x3F5DB3D7#32
  | 117 => 0xBF7746EA#32
  | 118 => 0x3F800000#32
  | 119 => 0xBF7746EA#32
  | 120 => 0x3F5DB3D7#32
  | 121 => 0xBF3504F3#32
  | 122 => 0x3F000000#32
  | 123 => 0xBE8483EE#32
  | 124 => 0xA50D3132#32
  | 125 => 0x3E8483EE#32
  | 126 => 0xBF000000#32
  | 127 => 0x3F3504F3#32
  | _ => 0#32

noncomputable abbrev lit1t0_299 (i : Nat) : BitVec 32 := match i % 128 with
  | 0 => 0xBF5DB3D7#32
  | 1 => 0x3F7746EA#32
  | 2 => 0xBF800000#32
  | 3 => 0x3F7746EA#32
  | 4 => 0xBF5DB3D7#32
  | 5 => 0x3F3504F3#32
  | 6 => 0xBF000000#32
  | 7 => 0x3E8483EE#32
  | 8 => 0x80000000#32
  | 9 => 0xBE8483EE#32
  | 10 => 0x3F000000#32
  | 11 => 0xBF3504F3#32
  | 12 => 0x3F5DB3D7#32
  | 13 => 0xBF7746EA#32
  | 14 => 0x3F800000#32
  | 15 => 0xBF7746EA#32
  | 16 => 0x3F5DB3D7#32
  | 17 => 0xBF3504F3#32
  | 18 => 0x3F000000#32
  | 19 => 0xBE8483EE#32
  | 20 => 0xA50D3132#32
  | 21 => 0x3E8483EE#32
  | 22 => 0xBF000000#32
  | 23 => 0x3F3504F3#32
  | 24 => 0xBF5DB3D7#32
  | 25 => 0x3F7746EA#32
  | 26 => 0xBF800000#32
  | 27 => 0x3F7746EA#32
  | 28 => 0xBF5DB3D7#32
  | 29 => 0x3F3504F3#32
  | 30 => 0xBF000000#32
  | 31 => 0x3E8483EE#32
  | 32 => 0x80000000#32
  | 33 => 0xBE7363EE#32
  | 34 => 0x3EEC6A50#32
  | 35 => 0xBF28CAE3#32
  | 36 => 0x3F51B3F3#32
  | 37 => 0xBF6E9811#32
  | 38 => 0x3F7DCF55#32
  | 39 => 0xBF7E7A7A#32
  | 40 => 0x3F708FB2#32
  | 41 => 0xBF54DB31#32
  | 42 => 0x3F2CF37B#32
  | 43 => 0xBEF64429#32
  | 44 => 0x3E8483EE#32
  | 45 => 0xBCB2B521#32
  | 46 => 0xBE5DA259#32
  | 47 => 0x3EE273AA#32
  | 48 => 0xBF248DBB#32
  | 49 => 0x3F4E7327#32
  | 50 => 0xBF6C835E#32
  | 51 => 0x3F7D0543#32
  | 52 => 0xBF7F069E#32
  | 53 => 0x3F726A03#32
  | 54 => 0xBF57E880#32
  | 55 => 0x3F310700#32
  | 56 => 0xBF000000#32
  | 57 => 0x3E8F45C0#32
  | 58 => 0xBD32AA3E#32
  | 59 => 0xBE47C5C2#32
  | 60 => 0x3ED8616C#32
  | 61 => 0xBF203C85#32
  | 62 => 0x3F4B1934#32
  | 63 => 0xBF6A51DA#32
  | 64 => 0x3F7C1C5C#32
  | 65 => 0xBF7F73AF#32
  | 66 => 0x3F7426CB#32
  | 67 => 0xBF5ADB81#32
  | 68 => 0x3F3504F3#32
  | 69 => 0xBF04CE53#32
  | 70 => 0x3E99F61C#32
  | 71 => 0xBD85F213#32
  | 72 => 0xBE31D0D4#32
  | 73 => 0x3ECE34D0#32
  | 74 => 0xBF1BD7CA#32
  | 75 => 0x3F47A682#32
  | 76 => 0xBF6803CA#32
  | 77 => 0x3F7B14BE#32
  | 78 => 0xBF7FC1A0#32
  | 79 => 0x3F75C5D4#32
  | 80 => 0xBF5DB3D7#32
  | 81 => 0x3F38ECD8#32
  | 82 => 0xBF098C78#32
  | 83 => 0x3EA493B7#32
  | 84 => 0xBDB27EB6#32
  | 85 => 0xBE1BC63C#32
  | 86 => 0x3EC3EF15#32
  | 87 => 0xBF176012#32
  | 88 => 0x3F441B7D#32
  | 89 => 0xBF659974#32
  | 90 => 0x3F79EE89#32
  | 91 => 0xBF7FF067#32
  | 92 => 0x3F7746EA#32
  | 93 => 0xBF60712A#32
  | 94 => 0x3F3CBE35#32
  | 95 => 0xBF0E39DA#32
  | 96 => 0x3EAF1D44#32
  | 97 => 0xBDDEF599#32
  | 98 => 0xBE05A8A8#32
  | 99 => 0x3EB9917B#32
  | 100 => 0xBF12D5E8#32
  | 101 => 0x3F407893#32
  | 102 => 0xBF631324#32
  | 103 => 0x3F78A9E0#32
  | 104 => 0xBF800000#32
  | 105 => 0x3F78A9E0#32
  | 106 => 0xBF631324#32
  | 107 => 0x3F407893#32
  | 108 => 0xBF12D5E8#32
  | 109 => 0x3EB9917B#32
  | 110 => 0xBE05A8A8#32
  | 111 => 0xBDDEF599#32
  | 112 => 0x3EAF1D44#32
  | 113 => 0xBF0E39DA#32
  | 114 => 0x3F3CBE35#32
  | 115 => 0xBF60712A#32
  | 116 => 0x3F7746EA#32
  | 117 => 0xBF7FF067#32
  | 118 => 0x3F79EE89#32
  | 119 => 0xBF659974#32
  | 120 => 0x3F441B7D#32
  | 121 => 0xBF176012#32
  | 122 => 0x3EC3EF15#32
  | 123 => 0xBE1BC63C#32
  | 124 => 0xBDB27EB6#32
  | 125 => 0x3EA493B7#32
  | 126 => 0xBF098C78#32
  | 127 => 0x3F38ECD8#32
  | _ => 0#32

noncomputable abbrev lit1t0_300 (i : Nat) : BitVec 32 := match i % 128 with
  | 0 => 0xBF5DB3D7#32
  | 1 => 0x3F75C5D4#32
  | 2 => 0xBF7FC1A0#32
  | 3 => 0x3F7B14BE#32
  | 4 => 0xBF6803CA#32
  | 5 => 0x3F47A682#32
  | 6 => 0xBF1BD7CA#32
  | 7 => 0x3ECE34D0#32
  | 8 => 0xBE31D0D4#32
  | 9 => 0xBD85F213#32
  | 10 => 0x3E99F61C#32
  | 11 => 0xBF04CE53#32
  | 12 => 0x3F3504F3#32
  | 13 => 0xBF5ADB81#32
  | 14 => 0x3F7426CB#32
  | 15 => 0xBF7F73AF#32
  | 16 => 0x3F7C1C5C#32
  | 17 => 0xBF6A51DA#32
  | 18 => 0x3F4B1934#32
  | 19 => 0xBF203C85#32
  | 20 => 0x3ED8616C#32
  | 21 => 0xBE47C5C2#32
  | 22 => 0xBD32AA3E#32
  | 23 => 0x3E8F45C0#32
  | 24 => 0xBF000000#32
  | 25 => 0x3F310700#32
  | 26 => 0xBF57E880#32
  | 27 => 0x3F726A03#32
  | 28 => 0xBF7F069E#32
  | 29 => 0x3F7D0543#32
  | 30 => 0xBF6C835E#32
  | 31 => 0x3F4E7327#32
  | 32 => 0xBF248DBB#32
  | 33 => 0x3EE273AA#32
  | 34 => 0xBE5DA259#32
  | 35 => 0xBCB2B521#32
  | 36 => 0x3E8483EE#32
  | 37 => 0xBEF64429#32
  | 38 => 0x3F2CF37B#32
  | 39 => 0xBF54DB31#32
  | 40 => 0x3F708FB2#32
  | 41 => 0xBF7E7A7A#32
  | 42 => 0x3F7DCF55#32
  | 43 => 0xBF6E9811#32
  | 44 => 0x3F51B3F3#32
  | 45 => 0xBF28CAE3#32
  | 46 => 0x3EEC6A50#32
  | 47 => 0xBE7363EE#32
  | 48 => 0xA50D3132#32
  | 49 => 0x3E7363EE#32
  | 50 => 0xBEEC6A50#32
  | 51 => 0x3F28CAE3#32
  | 52 => 0xBF51B3F3#32
  | 53 => 0x3F6E9811#32
  | 54 => 0xBF7DCF55#32
  | 55 => 0x3F7E7A7A#32
  | 56 => 0xBF708FB2#32
  | 57 => 0x3F54DB31#32
  | 58 => 0xBF2CF37B#32
  | 59 => 0x3EF64429#32
  | 60 => 0xBE8483EE#32
  | 61 => 0x3CB2B521#32
  | 62 => 0x3E5DA259#32
  | 63 => 0xBEE273AA#32
  | 64 => 0x3F248DBB#32
  | 65 => 0xBF4E7327#32
  | 66 => 0x3F6C835E#32
  | 67 => 0xBF7D0543#32
  | 68 => 0x3F7F069E#32
  | 69 => 0xBF726A03#32
  | 70 => 0x3F57E880#32
  | 71 => 0xBF310700#32
  | 72 => 0x3F000000#32
  | 73 => 0xBE8F45C0#32
  | 74 => 0x3D32AA3E#32
  | 75 => 0x3E47C5C2#32
  | 76 => 0xBED8616C#32
  | 77 => 0x3F203C85#32
  | 78 => 0xBF4B1934#32
  | 79 => 0x3F6A51DA#32
  | 80 => 0xBF7C1C5C#32
  | 81 => 0x3F7F73AF#32
  | 82 => 0xBF7426CB#32
  | 83 => 0x3F5ADB81#32
  | 84 => 0xBF3504F3#32
  | 85 => 0x3F04CE53#32
  | 86 => 0xBE99F61C#32
  | 87 => 0x3D85F213#32
  | 88 => 0x3E31D0D4#32
  | 89 => 0xBECE34D0#32
  | 90 => 0x3F1BD7CA#32
  | 91 => 0xBF47A682#32
  | 92 => 0x3F6803CA#32
  | 93 => 0xBF7B14BE#32
  | 94 => 0x3F7FC1A0#32
  | 95 => 0xBF75C5D4#32
  | 96 => 0x3F5DB3D7#32
  | 97 => 0xBF38ECD8#32
  | 98 => 0x3F098C78#32
  | 99 => 0xBEA493B7#32
  | 100 => 0x3DB27EB6#32
  | 101 => 0x3E1BC63C#32
  | 102 => 0xBEC3EF15#32
  | 103 => 0x3F176012#32
  | 104 => 0xBF441B7D#32
  | 105 => 0x3F659974#32
  | 106 => 0xBF79EE89#32
  | 107 => 0x3F7FF067#32
  | 108 => 0xBF7746EA#32
  | 109 => 0x3F60712A#32
  | 110 => 0xBF3CBE35#32
  | 111 => 0x3F0E39DA#32
  | 112 => 0xBEAF1D44#32
  | 113 => 0x3DDEF599#32
  | 114 => 0x3E05A8A8#32
  | 115 => 0xBEB9917B#32
  | 116 => 0x3F12D5E8#32
  | 117 => 0xBF407893#32
  | 118 => 0x3F631324#32
  | 119 => 0xBF78A9E0#32
  | 120 => 0x3F800000#32
  | 121 => 0xBF78A9E0#32
  | 122 => 0x3F631324#32
  | 123 => 0xBF407893#32
  | 124 => 0x3F12D5E8#32
  | 125 => 0xBEB9917B#32
  | 126 => 0x3E05A8A8#32
  | 127 => 0x3DDEF599#32
  | _ => 0#32

noncomputable abbrev lit1t0_301 (i : Nat) : BitVec 32 := match i % 128 with
  | 0 => 0xBEAF1D44#32
  | 1 => 0x3F0E39DA#32
  | 2 => 0xBF3CBE35#32
  | 3 => 0x3F60712A#32
  | 4 => 0xBF7746EA#32
  | 5 => 0x3F7FF067#32
  | 6 => 0xBF79EE89#32
  | 7 => 0x3F659974#32
  | 8 => 0xBF441B7D#32
  | 9 => 0x3F176012#32
  | 10 => 0xBEC3EF15#32
  | 11 => 0x3E1BC63C#32
  | 12 => 0x3DB27EB6#32
  | 13 => 0xBEA493B7#32
  | 14 => 0x3F098C78#32
  | 15 => 0xBF38ECD8#32
  | 16 => 0x3F5DB3D7#32
  | 17 => 0xBF75C5D4#32
  | 18 => 0x3F7FC1A0#32
  | 19 => 0xBF7B14BE#32
  | 20 => 0x3F6803CA#32
  | 21 => 0xBF47A682#32
  | 22 => 0x3F1BD7CA#32
  | 23 => 0xBECE34D0#32
  | 24 => 0x3E31D0D4#32
  | 25 => 0x3D85F213#32
  | 26 => 0xBE99F61C#32
  | 27 => 0x3F04CE53#32
  | 28 => 0xBF3504F3#32
  | 29 => 0x3F5ADB81#32
  | 30 => 0xBF7426CB#32
  | 31 => 0x3F7F73AF#32
  | 32 => 0xBF7C1C5C#32
  | 33 => 0x3F6A51DA#32
  | 34 => 0xBF4B1934#32
  | 35 => 0x3F203C85#32
  | 36 => 0xBED8616C#32
  | 37 => 0x3E47C5C2#32
  | 38 => 0x3D32AA3E#32
  | 39 => 0xBE8F45C0#32
  | 40 => 0x3F000000#32
  | 41 => 0xBF310700#32
  | 42 => 0x3F57E880#32
  | 43 => 0xBF726A03#32
  | 44 => 0x3F7F069E#32
  | 45 => 0xBF7D0543#32
  | 46 => 0x3F6C835E#32
  | 47 => 0xBF4E7327#32
  | 48 => 0x3F248DBB#32
  | 49 => 0xBEE273AA#32
  | 50 => 0x3E5DA259#32
  | 51 => 0x3CB2B521#32
  | 52 => 0xBE8483EE#32
  | 53 => 0x3EF64429#32
  | 54 => 0xBF2CF37B#32
  | 55 => 0x3F54DB31#32
  | 56 => 0xBF708FB2#32
  | 57 => 0x3F7E7A7A#32
  | 58 => 0xBF7DCF55#32
  | 59 => 0x3F6E9811#32
  | 60 => 0xBF51B3F3#32
  | 61 => 0x3F28CAE3#32
  | 62 => 0xBEEC6A50#32
  | 63 => 0x3E7363EE#32
  | 64 => 0x80000000#32
  | 65 => 0xBE5DA259#32
  | 66 => 0x3ED8616C#32
  | 67 => 0xBF1BD7CA#32
  | 68 => 0x3F441B7D#32
  | 69 => 0xBF631324#32
  | 70 => 0x3F7746EA#32
  | 71 => 0xBF7FC1A0#32
  | 72 => 0x3F7C1C5C#32
  | 73 => 0xBF6C835E#32
  | 74 => 0x3F51B3F3#32
  | 75 => 0xBF2CF37B#32
  | 76 => 0x3F000000#32
  | 77 => 0xBE99F61C#32
  | 78 => 0x3DB27EB6#32
  | 79 => 0x3E05A8A8#32
  | 80 => 0xBEAF1D44#32
  | 81 => 0x3F098C78#32
  | 82 => 0xBF3504F3#32
  | 83 => 0x3F57E880#32
  | 84 => 0xBF708FB2#32
  | 85 => 0x3F7DCF55#32
  | 86 => 0xBF7F069E#32
  | 87 => 0x3F7426CB#32
  | 88 => 0xBF5DB3D7#32
  | 89 => 0x3F3CBE35#32
  | 90 => 0xBF12D5E8#32
  | 91 => 0x3EC3EF15#32
  | 92 => 0xBE31D0D4#32
  | 93 => 0xBD32AA3E#32
  | 94 => 0x3E8483EE#32
  | 95 => 0xBEEC6A50#32
  | 96 => 0x3F248DBB#32
  | 97 => 0xBF4B1934#32
  | 98 => 0x3F6803CA#32
  | 99 => 0xBF79EE89#32
  | 100 => 0x3F800000#32
  | 101 => 0xBF79EE89#32
  | 102 => 0x3F6803CA#32
  | 103 => 0xBF4B1934#32
  | 104 => 0x3F248DBB#32
  | 105 => 0xBEEC6A50#32
  | 106 => 0x3E8483EE#32
  | 107 => 0xBD32AA3E#32
  | 108 => 0xBE31D0D4#32
  | 109 => 0x3EC3EF15#32
  | 110 => 0xBF12D5E8#32
  | 111 => 0x3F3CBE35#32
  | 112 => 0xBF5DB3D7#32
  | 113 => 0x3F7426CB#32
  | 114 => 0xBF7F069E#32
  | 115 => 0x3F7DCF55#32
  | 116 => 0xBF708FB2#32
  | 117 => 0x3F57E880#32
  | 118 => 0xBF3504F3#32
  | 119 => 0x3F098C78#32
  | 120 => 0xBEAF1D44#32
  | 121 => 0x3E05A8A8#32
  | 122 => 0x3DB27EB6#32
  | 123 => 0xBE99F61C#32
  | 124 => 0x3F000000#32
  | 125 => 0xBF2CF37B#32
  | 126 => 0x3F51B3F3#32
  | 127 => 0xBF6C835E#32
  | _ => 0#32

noncomputable abbrev lit1t0_302 (i : Nat) : BitVec 32 := match i % 128 with
  | 0 => 0x3F7C1C5C#32
  | 1 => 0xBF7FC1A0#32
  | 2 => 0x3F7746EA#32
  | 3 => 0xBF631324#32
  | 4 => 0x3F441B7D#32
  | 5 => 0xBF1BD7CA#32
  | 6 => 0x3ED8616C#32
  | 7 => 0xBE5DA259#32
  | 8 => 0xA50D3132#32
  | 9 => 0x3E5DA259#32
  | 10 => 0xBED8616C#32
  | 11 => 0x3F1BD7CA#32
  | 12 => 0xBF441B7D#32
  | 13 => 0x3F631324#32
  | 14 => 0xBF7746EA#32
  | 15 => 0x3F7FC1A0#32
  | 16 => 0xBF7C1C5C#32
  | 17 => 0x3F6C835E#32
  | 18 => 0xBF51B3F3#32
  | 19 => 0x3F2CF37B#32
  | 20 => 0xBF000000#32
  | 21 => 0x3E99F61C#32
  | 22 => 0xBDB27EB6#32
  | 23 => 0xBE05A8A8#32
  | 24 => 0x3EAF1D44#32
  | 25 => 0xBF098C78#32
  | 26 => 0x3F3504F3#32
  | 27 => 0xBF57E880#32
  | 28 => 0x3F708FB2#32
  | 29 => 0xBF7DCF55#32
  | 30 => 0x3F7F069E#32
  | 31 => 0xBF7426CB#32
  | 32 => 0x3F5DB3D7#32
  | 33 => 0xBF3CBE35#32
  | 34 => 0x3F12D5E8#32
  | 35 => 0xBEC3EF15#32
  | 36 => 0x3E31D0D4#32
  | 37 => 0x3D32AA3E#32
  | 38 => 0xBE8483EE#32
  | 39 => 0x3EEC6A50#32
  | 40 => 0xBF248DBB#32
  | 41 => 0x3F4B1934#32
  | 42 => 0xBF6803CA#32
  | 43 => 0x3F79EE89#32
  | 44 => 0xBF800000#32
  | 45 => 0x3F79EE89#32
  | 46 => 0xBF6803CA#32
  | 47 => 0x3F4B1934#32
  | 48 => 0xBF248DBB#32
  | 49 => 0x3EEC6A50#32
  | 50 => 0xBE8483EE#32
  | 51 => 0x3D32AA3E#32
  | 52 => 0x3E31D0D4#32
  | 53 => 0xBEC3EF15#32
  | 54 => 0x3F12D5E8#32
  | 55 => 0xBF3CBE35#32
  | 56 => 0x3F5DB3D7#32
  | 57 => 0xBF7426CB#32
  | 58 => 0x3F7F069E#32
  | 59 => 0xBF7DCF55#32
  | 60 => 0x3F708FB2#32
  | 61 => 0xBF57E880#32
  | 62 => 0x3F3504F3#32
  | 63 => 0xBF098C78#32
  | 64 => 0x3EAF1D44#32
  | 65 => 0xBE05A8A8#32
  | 66 => 0xBDB27EB6#32
  | 67 => 0x3E99F61C#32
  | 68 => 0xBF000000#32
  | 69 => 0x3F2CF37B#32
  | 70 => 0xBF51B3F3#32
  | 71 => 0x3F6C835E#32
  | 72 => 0xBF7C1C5C#32
  | 73 => 0x3F7FC1A0#32
  | 74 => 0xBF7746EA#32
  | 75 => 0x3F631324#32
  | 76 => 0xBF441B7D#32
  | 77 => 0x3F1BD7CA#32
  | 78 => 0xBED8616C#32
  | 79 => 0x3E5DA259#32
  | 80 => 0x80000000#32
  | 81 => 0xBE5DA259#32
  | 82 => 0x3ED8616C#32
  | 83 => 0xBF1BD7CA#32
  | 84 => 0x3F441B7D#32
  | 85 => 0xBF631324#32
  | 86 => 0x3F7746EA#32
  | 87 => 0xBF7FC1A0#32
  | 88 => 0x3F7C1C5C#32
  | 89 => 0xBF6C835E#32
  | 90 => 0x3F51B3F3#32
  | 91 => 0xBF2CF37B#32
  | 92 => 0x3F000000#32
  | 93 => 0xBE99F61C#32
  | 94 => 0x3DB27EB6#32
  | 95 => 0x3E05A8A8#32
  | 96 => 0xBEAF1D44#32
  | 97 => 0x3F098C78#32
  | 98 => 0xBF3504F3#32
  | 99 => 0x3F57E880#32
  | 100 => 0xBF708FB2#32
  | 101 => 0x3F7DCF55#32
  | 102 => 0xBF7F069E#32
  | 103 => 0x3F7426CB#32
  | 104 => 0xBF5DB3D7#32
  | 105 => 0x3F3CBE35#32
  | 106 => 0xBF12D5E8#32
  | 107 => 0x3EC3EF15#32
  | 108 => 0xBE31D0D4#32
  | 109 => 0xBD32AA3E#32
  | 110 => 0x3E8483EE#32
  | 111 => 0xBEEC6A50#32
  | 112 => 0x3F248DBB#32
  | 113 => 0xBF4B1934#32
  | 114 => 0x3F6803CA#32
  | 115 => 0xBF79EE89#32
  | 116 => 0x3F800000#32
  | 117 => 0xBF79EE89#32
  | 118 => 0x3F6803CA#32
  | 119 => 0xBF4B1934#32
  | 120 => 0x3F248DBB#32
  | 121 => 0xBEEC6A50#32
  | 122 => 0x3E8483EE#32
  | 123 => 0xBD32AA3E#32
  | 124 => 0xBE31D0D4#32
  | 125 => 0x3EC3EF15#32
  | 126 => 0xBF12D5E8#32
  | 127 => 0x3F3CBE35#32
  | _ => 0#32

noncomputable abbrev lit1t0_303 (i : Nat) : BitVec 32 := match i % 128 with
  | 0 => 0xBF5DB3D7#32
  | 1 => 0x3F7426CB#32
  | 2 => 0xBF7F069E#32
  | 3 => 0x3F7DCF55#32
  | 4 => 0xBF708FB2#32
  | 5 => 0x3F57E880#32
  | 6 => 0xBF3504F3#32
  | 7 => 0x3F098C78#32
  | 8 => 0xBEAF1D44#32
  | 9 => 0x3E05A8A8#32
  | 10 => 0x3DB27EB6#32
  | 11 => 0xBE99F61C#32
  | 12 => 0x3F000000#32
  | 13 => 0xBF2CF37B#32
  | 14 => 0x3F51B3F3#32
  | 15 => 0xBF6C835E#32
  | 16 => 0x3F7C1C5C#32
  | 17 => 0xBF7FC1A0#32
  | 18 => 0x3F7746EA#32
  | 19 => 0xBF631324#32
  | 20 => 0x3F441B7D#32
  | 21 => 0xBF1BD7CA#32
  | 22 => 0x3ED8616C#32
  | 23 => 0xBE5DA259#32
  | 24 => 0xA50D3132#32
  | 25 => 0x3E5DA259#32
  | 26 => 0xBED8616C#32
  | 27 => 0x3F1BD7CA#32
  | 28 => 0xBF441B7D#32
  | 29 => 0x3F631324#32
  | 30 => 0xBF7746EA#32
  | 31 => 0x3F7FC1A0#32
  | 32 => 0xBF7C1C5C#32
  | 33 => 0x3F6C835E#32
  | 34 => 0xBF51B3F3#32
  | 35 => 0x3F2CF37B#32
  | 36 => 0xBF000000#32
  | 37 => 0x3E99F61C#32
  | 38 => 0xBDB27EB6#32
  | 39 => 0xBE05A8A8#32
  | 40 => 0x3EAF1D44#32
  | 41 => 0xBF098C78#32
  | 42 => 0x3F3504F3#32
  | 43 => 0xBF57E880#32
  | 44 => 0x3F708FB2#32
  | 45 => 0xBF7DCF55#32
  | 46 => 0x3F7F069E#32
  | 47 => 0xBF7426CB#32
  | 48 => 0x3F5DB3D7#32
  | 49 => 0xBF3CBE35#32
  | 50 => 0x3F12D5E8#32
  | 51 => 0xBEC3EF15#32
  | 52 => 0x3E31D0D4#32
  | 53 => 0x3D32AA3E#32
  | 54 => 0xBE8483EE#32
  | 55 => 0x3EEC6A50#32
  | 56 => 0xBF248DBB#32
  | 57 => 0x3F4B1934#32
  | 58 => 0xBF6803CA#32
  | 59 => 0x3F79EE89#32
  | 60 => 0xBF800000#32
  | 61 => 0x3F79EE89#32
  | 62 => 0xBF6803CA#32
  | 63 => 0x3F4B1934#32
  | 64 => 0xBF248DBB#32
  | 65 => 0x3EEC6A50#32
  | 66 => 0xBE8483EE#32
  | 67 => 0x3D32AA3E#32
  | 68 => 0x3E31D0D4#32
  | 69 => 0xBEC3EF15#32
  | 70 => 0x3F12D5E8#32
  | 71 => 0xBF3CBE35#32
  | 72 => 0x3F5DB3D7#32
  | 73 => 0xBF7426CB#32
  | 74 => 0x3F7F069E#32
  | 75 => 0xBF7DCF55#32
  | 76 => 0x3F708FB2#32
  | 77 => 0xBF57E880#32
  | 78 => 0x3F3504F3#32
  | 79 => 0xBF098C78#32
  | 80 => 0x3EAF1D44#32
  | 81 => 0xBE05A8A8#32
  | 82 => 0xBDB27EB6#32
  | 83 => 0x3E99F61C#32
  | 84 => 0xBF000000#32
  | 85 => 0x3F2CF37B#32
  | 86 => 0xBF51B3F3#32
  | 87 => 0x3F6C835E#32
  | 88 => 0xBF7C1C5C#32
  | 89 => 0x3F7FC1A0#32
  | 90 => 0xBF7746EA#32
  | 91 => 0x3F631324#32
  | 92 => 0xBF441B7D#32
  | 93 => 0x3F1BD7CA#32
  | 94 => 0xBED8616C#32
  | 95 => 0x3E5DA259#32
  | 96 => 0x80000000#32
  | 97 => 0xBE47C5C2#32
  | 98 => 0x3EC3EF15#32
  | 99 => 0xBF0E39DA#32
  | 100 => 0x3F3504F3#32
  | 101 => 0xBF54DB31#32
  | 102 => 0x3F6C835E#32
  | 103 => 0xBF7B14BE#32
  | 104 => 0x3F800000#32
  | 105 => 0xBF7B14BE#32
  | 106 => 0x3F6C835E#32
  | 107 => 0xBF54DB31#32
  | 108 => 0x3F3504F3#32
  | 109 => 0xBF0E39DA#32
  | 110 => 0x3EC3EF15#32
  | 111 => 0xBE47C5C2#32
  | 112 => 0xA50D3132#32
  | 113 => 0x3E47C5C2#32
  | 114 => 0xBEC3EF15#32
  | 115 => 0x3F0E39DA#32
  | 116 => 0xBF3504F3#32
  | 117 => 0x3F54DB31#32
  | 118 => 0xBF6C835E#32
  | 119 => 0x3F7B14BE#32
  | 120 => 0xBF800000#32
  | 121 => 0x3F7B14BE#32
  | 122 => 0xBF6C835E#32
  | 123 => 0x3F54DB31#32
  | 124 => 0xBF3504F3#32
  | 125 => 0x3F0E39DA#32
  | 126 => 0xBEC3EF15#32
  | 127 => 0x3E47C5C2#32
  | _ => 0#32

noncomputable abbrev lit1t0_304 (i : Nat) : BitVec 32 := match i % 128 with
  | 0 => 0x80000000#32
  | 1 => 0xBE47C5C2#32
  | 2 => 0x3EC3EF15#32
  | 3 => 0xBF0E39DA#32
  | 4 => 0x3F3504F3#32
  | 5 => 0xBF54DB31#32
  | 6 => 0x3F6C835E#32
  | 7 => 0xBF7B14BE#32
  | 8 => 0x3F800000#32
  | 9 => 0xBF7B14BE#32
  | 10 => 0x3F6C835E#32
  | 11 => 0xBF54DB31#32
  | 12 => 0x3F3504F3#32
  | 13 => 0xBF0E39DA#32
  | 14 => 0x3EC3EF15#32
  | 15 => 0xBE47C5C2#32
  | 16 => 0xA50D3132#32
  | 17 => 0x3E47C5C2#32
  | 18 => 0xBEC3EF15#32
  | 19 => 0x3F0E39DA#32
  | 20 => 0xBF3504F3#32
  | 21 => 0x3F54DB31#32
  | 22 => 0xBF6C835E#32
  | 23 => 0x3F7B14BE#32
  | 24 => 0xBF800000#32
  | 25 => 0x3F7B14BE#32
  | 26 => 0xBF6C835E#32
  | 27 => 0x3F54DB31#32
  | 28 => 0xBF3504F3#32
  | 29 => 0x3F0E39DA#32
  | 30 => 0xBEC3EF15#32
  | 31 => 0x3E47C5C2#32
  | 32 => 0x80000000#32
  | 33 => 0xBE47C5C2#32
  | 34 => 0x3EC3EF15#32
  | 35 => 0xBF0E39DA#32
  | 36 => 0x3F3504F3#32
  | 37 => 0xBF54DB31#32
  | 38 => 0x3F6C835E#32
  | 39 => 0xBF7B14BE#32
  | 40 => 0x3F800000#32
  | 41 => 0xBF7B14BE#32
  | 42 => 0x3F6C835E#32
  | 43 => 0xBF54DB31#32
  | 44 => 0x3F3504F3#32
  | 45 => 0xBF0E39DA#32
  | 46 => 0x3EC3EF15#32
  | 47 => 0xBE47C5C2#32
  | 48 => 0xA50D3132#32
  | 49 => 0x3E47C5C2#32
  | 50 => 0xBEC3EF15#32
  | 51 => 0x3F0E39DA#32
  | 52 => 0xBF3504F3#32
  | 53 => 0x3F54DB31#32
  | 54 => 0xBF6C835E#32
  | 55 => 0x3F7B14BE#32
  | 56 => 0xBF800000#32
  | 57 => 0x3F7B14BE#32
  | 58 => 0xBF6C835E#32
  | 59 => 0x3F54DB31#32
  | 60 => 0xBF3504F3#32
  | 61 => 0x3F0E39DA#32
  | 62 => 0xBEC3EF15#32
  | 63 => 0x3E47C5C2#32
  | 64 => 0x80000000#32
  | 65 => 0xBE47C5C2#32
  | 66 => 0x3EC3EF15#32
  | 67 => 0xBF0E39DA#32
  | 68 => 0x3F3504F3#32
  | 69 => 0xBF54DB31#32
  | 70 => 0x3F6C835E#32
  | 71 => 0xBF7B14BE#32
  | 72 => 0x3F800000#32
  | 73 => 0xBF7B14BE#32
  | 74 => 0x3F6C835E#32
  | 75 => 0xBF54DB31#32
  | 76 => 0x3F3504F3#32
  | 77 => 0xBF0E39DA#32
  | 78 => 0x3EC3EF15#32
  | 79 => 0xBE47C5C2#32
  | 80 => 0xA50D3132#32
  | 81 => 0x3E47C5C2#32
  | 82 => 0xBEC3EF15#32
  | 83 => 0x3F0E39DA#32
  | 84 => 0xBF3504F3#32
  | 85 => 0x3F54DB31#32
  | 86 => 0xBF6C835E#32
  | 87 => 0x3F7B14BE#32
  | 88 => 0xBF800000#32
  | 89 => 0x3F7B14BE#32
  | 90 => 0xBF6C835E#32
  | 91 => 0x3F54DB31#32
  | 92 => 0xBF3504F3#32
  | 93 => 0x3F0E39DA#32
  | 94 => 0xBEC3EF15#32
  | 95 => 0x3E47C5C2#32
  | 96 => 0x80000000#32
  | 97 => 0xBE47C5C2#32
  | 98 => 0x3EC3EF15#32
  | 99 => 0xBF0E39DA#32
  | 100 => 0x3F3504F3#32
  | 101 => 0xBF54DB31#32
  | 102 => 0x3F6C835E#32
  | 103 => 0xBF7B14BE#32
  | 104 => 0x3F800000#32
  | 105 => 0xBF7B14BE#32
  | 106 => 0x3F6C835E#32
  | 107 => 0xBF54DB31#32
  | 108 => 0x3F3504F3#32
  | 109 => 0xBF0E39DA#32
  | 110 => 0x3EC3EF15#32
  | 111 => 0xBE47C5C2#32
  | 112 => 0xA50D3132#32
  | 113 => 0x3E47C5C2#32
  | 114 => 0xBEC3EF15#32
  | 115 => 0x3F0E39DA#32
  | 116 => 0xBF3504F3#32
  | 117 => 0x3F54DB31#32
  | 118 => 0xBF6C835E#32
  | 119 => 0x3F7B14BE#32
  | 120 => 0xBF800000#32
  | 121 => 0x3F7B14BE#32
  | 122 => 0xBF6C835E#32
  | 123 => 0x3F54DB31#32
  | 124 => 0xBF3504F3#32
  | 125 => 0x3F0E39DA#32
  | 126 => 0xBEC3EF15#32
  | 127 => 0x3E47C5C2#32
  | _ => 0#32

noncomputable abbrev lit1t0_305 (i : Nat) : BitVec 32 := match i % 128 with
  | 0 => 0x80000000#32
  | 1 => 0xBE47C5C2#32
  | 2 => 0x3EC3EF15#32
  | 3 => 0xBF0E39DA#32
  | 4 => 0x3F3504F3#32
  | 5 => 0xBF54DB31#32
  | 6 => 0x3F6C835E#32
  | 7 => 0xBF7B14BE#32
  | 8 => 0x3F800000#32
  | 9 => 0xBF7B14BE#32
  | 10 => 0x3F6C835E#32
  | 11 => 0xBF54DB31#32
  | 12 => 0x3F3504F3#32
  | 13 => 0xBF0E39DA#32
  | 14 => 0x3EC3EF15#32
  | 15 => 0xBE47C5C2#32
  | 16 => 0xA50D3132#32
  | 17 => 0x3E47C5C2#32
  | 18 => 0xBEC3EF15#32
  | 19 => 0x3F0E39DA#32
  | 20 => 0xBF3504F3#32
  | 21 => 0x3F54DB31#32
  | 22 => 0xBF6C835E#32
  | 23 => 0x3F7B14BE#32
  | 24 => 0xBF800000#32
  | 25 => 0x3F7B14BE#32
  | 26 => 0xBF6C835E#32
  | 27 => 0x3F54DB31#32
  | 28 => 0xBF3504F3#32
  | 29 => 0x3F0E39DA#32
  | 30 => 0xBEC3EF15#32
  | 31 => 0x3E47C5C2#32
  | 32 => 0x80000000#32
  | 33 => 0xBE47C5C2#32
  | 34 => 0x3EC3EF15#32
  | 35 => 0xBF0E39DA#32
  | 36 => 0x3F3504F3#32
  | 37 => 0xBF54DB31#32
  | 38 => 0x3F6C835E#32
  | 39 => 0xBF7B14BE#32
  | 40 => 0x3F800000#32
  | 41 => 0xBF7B14BE#32
  | 42 => 0x3F6C835E#32
  | 43 => 0xBF54DB31#32
  | 44 => 0x3F3504F3#32
  | 45 => 0xBF0E39DA#32
  | 46 => 0x3EC3EF15#32
  | 47 => 0xBE47C5C2#32
  | 48 => 0xA50D3132#32
  | 49 => 0x3E47C5C2#32
  | 50 => 0xBEC3EF15#32
  | 51 => 0x3F0E39DA#32
  | 52 => 0xBF3504F3#32
  | 53 => 0x3F54DB31#32
  | 54 => 0xBF6C835E#32
  | 55 => 0x3F7B14BE#32
  | 56 => 0xBF800000#32
  | 57 => 0x3F7B14BE#32
  | 58 => 0xBF6C835E#32
  | 59 => 0x3F54DB31#32
  | 60 => 0xBF3504F3#32
  | 61 => 0x3F0E39DA#32
  | 62 => 0xBEC3EF15#32
  | 63 => 0x3E47C5C2#32
  | 64 => 0x80000000#32
  | 65 => 0xBE47C5C2#32
  | 66 => 0x3EC3EF15#32
  | 67 => 0xBF0E39DA#32
  | 68 => 0x3F3504F3#32
  | 69 => 0xBF54DB31#32
  | 70 => 0x3F6C835E#32
  | 71 => 0xBF7B14BE#32
  | 72 => 0x3F800000#32
  | 73 => 0xBF7B14BE#32
  | 74 => 0x3F6C835E#32
  | 75 => 0xBF54DB31#32
  | 76 => 0x3F3504F3#32
  | 77 => 0xBF0E39DA#32
  | 78 => 0x3EC3EF15#32
  | 79 => 0xBE47C5C2#32
  | 80 => 0xA50D3132#32
  | 81 => 0x3E47C5C2#32
  | 82 => 0xBEC3EF15#32
  | 83 => 0x3F0E39DA#32
  | 84 => 0xBF3504F3#32
  | 85 => 0x3F54DB31#32
  | 86 => 0xBF6C835E#32
  | 87 => 0x3F7B14BE#32
  | 88 => 0xBF800000#32
  | 89 => 0x3F7B14BE#32
  | 90 => 0xBF6C835E#32
  | 91 => 0x3F54DB31#32
  | 92 => 0xBF3504F3#32
  | 93 => 0x3F0E39DA#32
  | 94 => 0xBEC3EF15#32
  | 95 => 0x3E47C5C2#32
  | 96 => 0x80000000#32
  | 97 => 0xBE47C5C2#32
  | 98 => 0x3EC3EF15#32
  | 99 => 0xBF0E39DA#32
  | 100 => 0x3F3504F3#32
  | 101 => 0xBF54DB31#32
  | 102 => 0x3F6C835E#32
  | 103 => 0xBF7B14BE#32
  | 104 => 0x3F800000#32
  | 105 => 0xBF7B14BE#32
  | 106 => 0x3F6C835E#32
  | 107 => 0xBF54DB31#32
  | 108 => 0x3F3504F3#32
  | 109 => 0xBF0E39DA#32
  | 110 => 0x3EC3EF15#32
  | 111 => 0xBE47C5C2#32
  | 112 => 0xA50D3132#32
  | 113 => 0x3E47C5C2#32
  | 114 => 0xBEC3EF15#32
  | 115 => 0x3F0E39DA#32
  | 116 => 0xBF3504F3#32
  | 117 => 0x3F54DB31#32
  | 118 => 0xBF6C835E#32
  | 119 => 0x3F7B14BE#32
  | 120 => 0xBF800000#32
  | 121 => 0x3F7B14BE#32
  | 122 => 0xBF6C835E#32
  | 123 => 0x3F54DB31#32
  | 124 => 0xBF3504F3#32
  | 125 => 0x3F0E39DA#32
  | 126 => 0xBEC3EF15#32
  | 127 => 0x3E47C5C2#32
  | _ => 0#32

noncomputable abbrev lit1t0_306 (i : Nat) : BitVec 32 := match i % 128 with
  | 0 => 0x80000000#32
  | 1 => 0xBE31D0D4#32
  | 2 => 0x3EAF1D44#32
  | 3 => 0xBF000000#32
  | 4 => 0x3F248DBB#32
  | 5 => 0xBF441B7D#32
  | 6 => 0x3F5DB3D7#32
  | 7 => 0xBF708FB2#32
  | 8 => 0x3F7C1C5C#32
  | 9 => 0xBF800000#32
  | 10 => 0x3F7C1C5C#32
  | 11 => 0xBF708FB2#32
  | 12 => 0x3F5DB3D7#32
  | 13 => 0xBF441B7D#32
  | 14 => 0x3F248DBB#32
  | 15 => 0xBF000000#32
  | 16 => 0x3EAF1D44#32
  | 17 => 0xBE31D0D4#32
  | 18 => 0xA50D3132#32
  | 19 => 0x3E31D0D4#32
  | 20 => 0xBEAF1D44#32
  | 21 => 0x3F000000#32
  | 22 => 0xBF248DBB#32
  | 23 => 0x3F441B7D#32
  | 24 => 0xBF5DB3D7#32
  | 25 => 0x3F708FB2#32
  | 26 => 0xBF7C1C5C#32
  | 27 => 0x3F800000#32
  | 28 => 0xBF7C1C5C#32
  | 29 => 0x3F708FB2#32
  | 30 => 0xBF5DB3D7#32
  | 31 => 0x3F441B7D#32
  | 32 => 0xBF248DBB#32
  | 33 => 0x3F000000#32
  | 34 => 0xBEAF1D44#32
  | 35 => 0x3E31D0D4#32
  | 36 => 0x80000000#32
  | 37 => 0xBE31D0D4#32
  | 38 => 0x3EAF1D44#32
  | 39 => 0xBF000000#32
  | 40 => 0x3F248DBB#32
  | 41 => 0xBF441B7D#32
  | 42 => 0x3F5DB3D7#32
  | 43 => 0xBF708FB2#32
  | 44 => 0x3F7C1C5C#32
  | 45 => 0xBF800000#32
  | 46 => 0x3F7C1C5C#32
  | 47 => 0xBF708FB2#32
  | 48 => 0x3F5DB3D7#32
  | 49 => 0xBF441B7D#32
  | 50 => 0x3F248DBB#32
  | 51 => 0xBF000000#32
  | 52 => 0x3EAF1D44#32
  | 53 => 0xBE31D0D4#32
  | 54 => 0xA50D3132#32
  | 55 => 0x3E31D0D4#32
  | 56 => 0xBEAF1D44#32
  | 57 => 0x3F000000#32
  | 58 => 0xBF248DBB#32
  | 59 => 0x3F441B7D#32
  | 60 => 0xBF5DB3D7#32
  | 61 => 0x3F708FB2#32
  | 62 => 0xBF7C1C5C#32
  | 63 => 0x3F800000#32
  | 64 => 0xBF7C1C5C#32
  | 65 => 0x3F708FB2#32
  | 66 => 0xBF5DB3D7#32
  | 67 => 0x3F441B7D#32
  | 68 => 0xBF248DBB#32
  | 69 => 0x3F000000#32
  | 70 => 0xBEAF1D44#32
  | 71 => 0x3E31D0D4#32
  | 72 => 0x80000000#32
  | 73 => 0xBE31D0D4#32
  | 74 => 0x3EAF1D44#32
  | 75 => 0xBF000000#32
  | 76 => 0x3F248DBB#32
  | 77 => 0xBF441B7D#32
  | 78 => 0x3F5DB3D7#32
  | 79 => 0xBF708FB2#32
  | 80 => 0x3F7C1C5C#32
  | 81 => 0xBF800000#32
  | 82 => 0x3F7C1C5C#32
  | 83 => 0xBF708FB2#32
  | 84 => 0x3F5DB3D7#32
  | 85 => 0xBF441B7D#32
  | 86 => 0x3F248DBB#32
  | 87 => 0xBF000000#32
  | 88 => 0x3EAF1D44#32
  | 89 => 0xBE31D0D4#32
  | 90 => 0xA50D3132#32
  | 91 => 0x3E31D0D4#32
  | 92 => 0xBEAF1D44#32
  | 93 => 0x3F000000#32
  | 94 => 0xBF248DBB#32
  | 95 => 0x3F441B7D#32
  | 96 => 0xBF5DB3D7#32
  | 97 => 0x3F708FB2#32
  | 98 => 0xBF7C1C5C#32
  | 99 => 0x3F800000#32
  | 100 => 0xBF7C1C5C#32
  | 101 => 0x3F708FB2#32
  | 102 => 0xBF5DB3D7#32
  | 103 => 0x3F441B7D#32
  | 104 => 0xBF248DBB#32
  | 105 => 0x3F000000#32
  | 106 => 0xBEAF1D44#32
  | 107 => 0x3E31D0D4#32
  | 108 => 0x80000000#32
  | 109 => 0xBE31D0D4#32
  | 110 => 0x3EAF1D44#32
  | 111 => 0xBF000000#32
  | 112 => 0x3F248DBB#32
  | 113 => 0xBF441B7D#32
  | 114 => 0x3F5DB3D7#32
  | 115 => 0xBF708FB2#32
  | 116 => 0x3F7C1C5C#32
  | 117 => 0xBF800000#32
  | 118 => 0x3F7C1C5C#32
  | 119 => 0xBF708FB2#32
  | 120 => 0x3F5DB3D7#32
  | 121 => 0xBF441B7D#32
  | 122 => 0x3F248DBB#32
  | 123 => 0xBF000000#32
  | 124 => 0x3EAF1D44#32
  | 125 => 0xBE31D0D4#32
  | 126 => 0xA50D3132#32
  | 127 => 0x3E31D0D4#32
  | _ => 0#32

noncomputable abbrev lit1t0_307 (i : Nat) : BitVec 32 := match i % 128 with
  | 0 => 0xBEAF1D44#32
  | 1 => 0x3F000000#32
  | 2 => 0xBF248DBB#32
  | 3 => 0x3F441B7D#32
  | 4 => 0xBF5DB3D7#32
  | 5 => 0x3F708FB2#32
  | 6 => 0xBF7C1C5C#32
  | 7 => 0x3F800000#32
  | 8 => 0xBF7C1C5C#32
  | 9 => 0x3F708FB2#32
  | 10 => 0xBF5DB3D7#32
  | 11 => 0x3F441B7D#32
  | 12 => 0xBF248DBB#32
  | 13 => 0x3F000000#32
  | 14 => 0xBEAF1D44#32
  | 15 => 0x3E31D0D4#32
  | 16 => 0x80000000#32
  | 17 => 0xBE31D0D4#32
  | 18 => 0x3EAF1D44#32
  | 19 => 0xBF000000#32
  | 20 => 0x3F248DBB#32
  | 21 => 0xBF441B7D#32
  | 22 => 0x3F5DB3D7#32
  | 23 => 0xBF708FB2#32
  | 24 => 0x3F7C1C5C#32
  | 25 => 0xBF800000#32
  | 26 => 0x3F7C1C5C#32
  | 27 => 0xBF708FB2#32
  | 28 => 0x3F5DB3D7#32
  | 29 => 0xBF441B7D#32
  | 30 => 0x3F248DBB#32
  | 31 => 0xBF000000#32
  | 32 => 0x3EAF1D44#32
  | 33 => 0xBE31D0D4#32
  | 34 => 0xA50D3132#32
  | 35 => 0x3E31D0D4#32
  | 36 => 0xBEAF1D44#32
  | 37 => 0x3F000000#32
  | 38 => 0xBF248DBB#32
  | 39 => 0x3F441B7D#32
  | 40 => 0xBF5DB3D7#32
  | 41 => 0x3F708FB2#32
  | 42 => 0xBF7C1C5C#32
  | 43 => 0x3F800000#32
  | 44 => 0xBF7C1C5C#32
  | 45 => 0x3F708FB2#32
  | 46 => 0xBF5DB3D7#32
  | 47 => 0x3F441B7D#32
  | 48 => 0xBF248DBB#32
  | 49 => 0x3F000000#32
  | 50 => 0xBEAF1D44#32
  | 51 => 0x3E31D0D4#32
  | 52 => 0x80000000#32
  | 53 => 0xBE31D0D4#32
  | 54 => 0x3EAF1D44#32
  | 55 => 0xBF000000#32
  | 56 => 0x3F248DBB#32
  | 57 => 0xBF441B7D#32
  | 58 => 0x3F5DB3D7#32
  | 59 => 0xBF708FB2#32
  | 60 => 0x3F7C1C5C#32
  | 61 => 0xBF800000#32
  | 62 => 0x3F7C1C5C#32
  | 63 => 0xBF708FB2#32
  | 64 => 0x3F5DB3D7#32
  | 65 => 0xBF441B7D#32
  | 66 => 0x3F248DBB#32
  | 67 => 0xBF000000#32
  | 68 => 0x3EAF1D44#32
  | 69 => 0xBE31D0D4#32
  | 70 => 0xA50D3132#32
  | 71 => 0x3E31D0D4#32
  | 72 => 0xBEAF1D44#32
  | 73 => 0x3F000000#32
  | 74 => 0xBF248DBB#32
  | 75 => 0x3F441B7D#32
  | 76 => 0xBF5DB3D7#32
  | 77 => 0x3F708FB2#32
  | 78 => 0xBF7C1C5C#32
  | 79 => 0x3F800000#32
  | 80 => 0xBF7C1C5C#32
  | 81 => 0x3F708FB2#32
  | 82 => 0xBF5DB3D7#32
  | 83 => 0x3F441B7D#32
  | 84 => 0xBF248DBB#32
  | 85 => 0x3F000000#32
  | 86 => 0xBEAF1D44#32
  | 87 => 0x3E31D0D4#32
  | 88 => 0x80000000#32
  | 89 => 0xBE31D0D4#32
  | 90 => 0x3EAF1D44#32
  | 91 => 0xBF000000#32
  | 92 => 0x3F248DBB#32
  | 93 => 0xBF441B7D#32
  | 94 => 0x3F5DB3D7#32
  | 95 => 0xBF708FB2#32
  | 96 => 0x3F7C1C5C#32
  | 97 => 0xBF800000#32
  | 98 => 0x3F7C1C5C#32
  | 99 => 0xBF708FB2#32
  | 100 => 0x3F5DB3D7#32
  | 101 => 0xBF441B7D#32
  | 102 => 0x3F248DBB#32
  | 103 => 0xBF000000#32
  | 104 => 0x3EAF1D44#32
  | 105 => 0xBE31D0D4#32
  | 106 => 0xA50D3132#32
  | 107 => 0x3E31D0D4#32
  | 108 => 0xBEAF1D44#32
  | 109 => 0x3F000000#32
  | 110 => 0xBF248DBB#32
  | 111 => 0x3F441B7D#32
  | 112 => 0xBF5DB3D7#32
  | 113 => 0x3F708FB2#32
  | 114 => 0xBF7C1C5C#32
  | 115 => 0x3F800000#32
  | 116 => 0xBF7C1C5C#32
  | 117 => 0x3F708FB2#32
  | 118 => 0xBF5DB3D7#32
  | 119 => 0x3F441B7D#32
  | 120 => 0xBF248DBB#32
  | 121 => 0x3F000000#32
  | 122 => 0xBEAF1D44#32
  | 123 => 0x3E31D0D4#32
  | 124 => 0x80000000#32
  | 125 => 0xBE31D0D4#32
  | 126 => 0x3EAF1D44#32
  | 127 => 0xBF000000#32
  | _ => 0#32

noncomputable abbrev lit1t0_308 (i : Nat) : BitVec 32 := match i % 128 with
  | 0 => 0x3F248DBB#32
  | 1 => 0xBF441B7D#32
  | 2 => 0x3F5DB3D7#32
  | 3 => 0xBF708FB2#32
  | 4 => 0x3F7C1C5C#32
  | 5 => 0xBF800000#32
  | 6 => 0x3F7C1C5C#32
  | 7 => 0xBF708FB2#32
  | 8 => 0x3F5DB3D7#32
  | 9 => 0xBF441B7D#32
  | 10 => 0x3F248DBB#32
  | 11 => 0xBF000000#32
  | 12 => 0x3EAF1D44#32
  | 13 => 0xBE31D0D4#32
  | 14 => 0xA50D3132#32
  | 15 => 0x3E31D0D4#32
  | 16 => 0xBEAF1D44#32
  | 17 => 0x3F000000#32
  | 18 => 0xBF248DBB#32
  | 19 => 0x3F441B7D#32
  | 20 => 0xBF5DB3D7#32
  | 21 => 0x3F708FB2#32
  | 22 => 0xBF7C1C5C#32
  | 23 => 0x3F800000#32
  | 24 => 0xBF7C1C5C#32
  | 25 => 0x3F708FB2#32
  | 26 => 0xBF5DB3D7#32
  | 27 => 0x3F441B7D#32
  | 28 => 0xBF248DBB#32
  | 29 => 0x3F000000#32
  | 30 => 0xBEAF1D44#32
  | 31 => 0x3E31D0D4#32
  | 32 => 0x80000000#32
  | 33 => 0xBE1BC63C#32
  | 34 => 0x3E99F61C#32
  | 35 => 0xBEE273AA#32
  | 36 => 0x3F12D5E8#32
  | 37 => 0xBF310700#32
  | 38 => 0x3F4B1934#32
  | 39 => 0xBF60712A#32
  | 40 => 0x3F708FB2#32
  | 41 => 0xBF7B14BE#32
  | 42 => 0x3F7FC1A0#32
  | 43 => 0xBF7E7A7A#32
  | 44 => 0x3F7746EA#32
  | 45 => 0xBF6A51DA#32
  | 46 => 0x3F57E880#32
  | 47 => 0xBF407893#32
  | 48 => 0x3F248DBB#32
  | 49 => 0xBF04CE53#32
  | 50 => 0x3EC3EF15#32
  | 51 => 0xBE7363EE#32
  | 52 => 0x3DB27EB6#32
  | 53 => 0x3D85F213#32
  | 54 => 0xBE5DA259#32
  | 55 => 0x3EB9917B#32
  | 56 => 0xBF000000#32
  | 57 => 0x3F203C85#32
  | 58 => 0xBF3CBE35#32
  | 59 => 0x3F54DB31#32
  | 60 => 0xBF6803CA#32
  | 61 => 0x3F75C5D4#32
  | 62 => 0xBF7DCF55#32
  | 63 => 0x3F7FF067#32
  | 64 => 0xBF7C1C5C#32
  | 65 => 0x3F726A03#32
  | 66 => 0xBF631324#32
  | 67 => 0x3F4E7327#32
  | 68 => 0xBF3504F3#32
  | 69 => 0x3F176012#32
  | 70 => 0xBEEC6A50#32
  | 71 => 0x3EA493B7#32
  | 72 => 0xBE31D0D4#32
  | 73 => 0x3CB2B521#32
  | 74 => 0x3E05A8A8#32
  | 75 => 0xBE8F45C0#32
  | 76 => 0x3ED8616C#32
  | 77 => 0xBF0E39DA#32
  | 78 => 0x3F2CF37B#32
  | 79 => 0xBF47A682#32
  | 80 => 0x3F5DB3D7#32
  | 81 => 0xBF6E9811#32
  | 82 => 0x3F79EE89#32
  | 83 => 0xBF7F73AF#32
  | 84 => 0x3F7F069E#32
  | 85 => 0xBF78A9E0#32
  | 86 => 0x3F6C835E#32
  | 87 => 0xBF5ADB81#32
  | 88 => 0x3F441B7D#32
  | 89 => 0xBF28CAE3#32
  | 90 => 0x3F098C78#32
  | 91 => 0xBECE34D0#32
  | 92 => 0x3E8483EE#32
  | 93 => 0xBDDEF599#32
  | 94 => 0xBD32AA3E#32
  | 95 => 0x3E47C5C2#32
  | 96 => 0xBEAF1D44#32
  | 97 => 0x3EF64429#32
  | 98 => 0xBF1BD7CA#32
  | 99 => 0x3F38ECD8#32
  | 100 => 0xBF51B3F3#32
  | 101 => 0x3F659974#32
  | 102 => 0xBF7426CB#32
  | 103 => 0x3F7D0543#32
  | 104 => 0xBF800000#32
  | 105 => 0x3F7D0543#32
  | 106 => 0xBF7426CB#32
  | 107 => 0x3F659974#32
  | 108 => 0xBF51B3F3#32
  | 109 => 0x3F38ECD8#32
  | 110 => 0xBF1BD7CA#32
  | 111 => 0x3EF64429#32
  | 112 => 0xBEAF1D44#32
  | 113 => 0x3E47C5C2#32
  | 114 => 0xBD32AA3E#32
  | 115 => 0xBDDEF599#32
  | 116 => 0x3E8483EE#32
  | 117 => 0xBECE34D0#32
  | 118 => 0x3F098C78#32
  | 119 => 0xBF28CAE3#32
  | 120 => 0x3F441B7D#32
  | 121 => 0xBF5ADB81#32
  | 122 => 0x3F6C835E#32
  | 123 => 0xBF78A9E0#32
  | 124 => 0x3F7F069E#32
  | 125 => 0xBF7F73AF#32
  | 126 => 0x3F79EE89#32
  | 127 => 0xBF6E9811#32
  | _ => 0#32

noncomputable abbrev lit1t0_309 (i : Nat) : BitVec 32 := match i % 128 with
  | 0 => 0x3F5DB3D7#32
  | 1 => 0xBF47A682#32
  | 2 => 0x3F2CF37B#32
  | 3 => 0xBF0E39DA#32
  | 4 => 0x3ED8616C#32
  | 5 => 0xBE8F45C0#32
  | 6 => 0x3E05A8A8#32
  | 7 => 0x3CB2B521#32
  | 8 => 0xBE31D0D4#32
  | 9 => 0x3EA493B7#32
  | 10 => 0xBEEC6A50#32
  | 11 => 0x3F176012#32
  | 12 => 0xBF3504F3#32
  | 13 => 0x3F4E7327#32
  | 14 => 0xBF631324#32
  | 15 => 0x3F726A03#32
  | 16 => 0xBF7C1C5C#32
  | 17 => 0x3F7FF067#32
  | 18 => 0xBF7DCF55#32
  | 19 => 0x3F75C5D4#32
  | 20 => 0xBF6803CA#32
  | 21 => 0x3F54DB31#32
  | 22 => 0xBF3CBE35#32
  | 23 => 0x3F203C85#32
  | 24 => 0xBF000000#32
  | 25 => 0x3EB9917B#32
  | 26 => 0xBE5DA259#32
  | 27 => 0x3D85F213#32
  | 28 => 0x3DB27EB6#32
  | 29 => 0xBE7363EE#32
  | 30 => 0x3EC3EF15#32
  | 31 => 0xBF04CE53#32
  | 32 => 0x3F248DBB#32
  | 33 => 0xBF407893#32
  | 34 => 0x3F57E880#32
  | 35 => 0xBF6A51DA#32
  | 36 => 0x3F7746EA#32
  | 37 => 0xBF7E7A7A#32
  | 38 => 0x3F7FC1A0#32
  | 39 => 0xBF7B14BE#32
  | 40 => 0x3F708FB2#32
  | 41 => 0xBF60712A#32
  | 42 => 0x3F4B1934#32
  | 43 => 0xBF310700#32
  | 44 => 0x3F12D5E8#32
  | 45 => 0xBEE273AA#32
  | 46 => 0x3E99F61C#32
  | 47 => 0xBE1BC63C#32
  | 48 => 0xA50D3132#32
  | 49 => 0x3E1BC63C#32
  | 50 => 0xBE99F61C#32
  | 51 => 0x3EE273AA#32
  | 52 => 0xBF12D5E8#32
  | 53 => 0x3F310700#32
  | 54 => 0xBF4B1934#32
  | 55 => 0x3F60712A#32
  | 56 => 0xBF708FB2#32
  | 57 => 0x3F7B14BE#32
  | 58 => 0xBF7FC1A0#32
  | 59 => 0x3F7E7A7A#32
  | 60 => 0xBF7746EA#32
  | 61 => 0x3F6A51DA#32
  | 62 => 0xBF57E880#32
  | 63 => 0x3F407893#32
  | 64 => 0xBF248DBB#32
  | 65 => 0x3F04CE53#32
  | 66 => 0xBEC3EF15#32
  | 67 => 0x3E7363EE#32
  | 68 => 0xBDB27EB6#32
  | 69 => 0xBD85F213#32
  | 70 => 0x3E5DA259#32
  | 71 => 0xBEB9917B#32
  | 72 => 0x3F000000#32
  | 73 => 0xBF203C85#32
  | 74 => 0x3F3CBE35#32
  | 75 => 0xBF54DB31#32
  | 76 => 0x3F6803CA#32
  | 77 => 0xBF75C5D4#32
  | 78 => 0x3F7DCF55#32
  | 79 => 0xBF7FF067#32
  | 80 => 0x3F7C1C5C#32
  | 81 => 0xBF726A03#32
  | 82 => 0x3F631324#32
  | 83 => 0xBF4E7327#32
  | 84 => 0x3F3504F3#32
  | 85 => 0xBF176012#32
  | 86 => 0x3EEC6A50#32
  | 87 => 0xBEA493B7#32
  | 88 => 0x3E31D0D4#32
  | 89 => 0xBCB2B521#32
  | 90 => 0xBE05A8A8#32
  | 91 => 0x3E8F45C0#32
  | 92 => 0xBED8616C#32
  | 93 => 0x3F0E39DA#32
  | 94 => 0xBF2CF37B#32
  | 95 => 0x3F47A682#32
  | 96 => 0xBF5DB3D7#32
  | 97 => 0x3F6E9811#32
  | 98 => 0xBF79EE89#32
  | 99 => 0x3F7F73AF#32
  | 100 => 0xBF7F069E#32
  | 101 => 0x3F78A9E0#32
  | 102 => 0xBF6C835E#32
  | 103 => 0x3F5ADB81#32
  | 104 => 0xBF441B7D#32
  | 105 => 0x3F28CAE3#32
  | 106 => 0xBF098C78#32
  | 107 => 0x3ECE34D0#32
  | 108 => 0xBE8483EE#32
  | 109 => 0x3DDEF599#32
  | 110 => 0x3D32AA3E#32
  | 111 => 0xBE47C5C2#32
  | 112 => 0x3EAF1D44#32
  | 113 => 0xBEF64429#32
  | 114 => 0x3F1BD7CA#32
  | 115 => 0xBF38ECD8#32
  | 116 => 0x3F51B3F3#32
  | 117 => 0xBF659974#32
  | 118 => 0x3F7426CB#32
  | 119 => 0xBF7D0543#32
  | 120 => 0x3F800000#32
  | 121 => 0xBF7D0543#32
  | 122 => 0x3F7426CB#32
  | 123 => 0xBF659974#32
  | 124 => 0x3F51B3F3#32
  | 125 => 0xBF38ECD8#32
  | 126 => 0x3F1BD7CA#32
  | 127 => 0xBEF64429#32
  | _ => 0#32

noncomputable abbrev lit1t0_310 (i : Nat) : BitVec 32 := match i % 128 with
  | 0 => 0x3EAF1D44#32
  | 1 => 0xBE47C5C2#32
  | 2 => 0x3D32AA3E#32
  | 3 => 0x3DDEF599#32
  | 4 => 0xBE8483EE#32
  | 5 => 0x3ECE34D0#32
  | 6 => 0xBF098C78#32
  | 7 => 0x3F28CAE3#32
  | 8 => 0xBF441B7D#32
  | 9 => 0x3F5ADB81#32
  | 10 => 0xBF6C835E#32
  | 11 => 0x3F78A9E0#32
  | 12 => 0xBF7F069E#32
  | 13 => 0x3F7F73AF#32
  | 14 => 0xBF79EE89#32
  | 15 => 0x3F6E9811#32
  | 16 => 0xBF5DB3D7#32
  | 17 => 0x3F47A682#32
  | 18 => 0xBF2CF37B#32
  | 19 => 0x3F0E39DA#32
  | 20 => 0xBED8616C#32
  | 21 => 0x3E8F45C0#32
  | 22 => 0xBE05A8A8#32
  | 23 => 0xBCB2B521#32
  | 24 => 0x3E31D0D4#32
  | 25 => 0xBEA493B7#32
  | 26 => 0x3EEC6A50#32
  | 27 => 0xBF176012#32
  | 28 => 0x3F3504F3#32
  | 29 => 0xBF4E7327#32
  | 30 => 0x3F631324#32
  | 31 => 0xBF726A03#32
  | 32 => 0x3F7C1C5C#32
  | 33 => 0xBF7FF067#32
  | 34 => 0x3F7DCF55#32
  | 35 => 0xBF75C5D4#32
  | 36 => 0x3F6803CA#32
  | 37 => 0xBF54DB31#32
  | 38 => 0x3F3CBE35#32
  | 39 => 0xBF203C85#32
  | 40 => 0x3F000000#32
  | 41 => 0xBEB9917B#32
  | 42 => 0x3E5DA259#32
  | 43 => 0xBD85F213#32
  | 44 => 0xBDB27EB6#32
  | 45 => 0x3E7363EE#32
  | 46 => 0xBEC3EF15#32
  | 47 => 0x3F04CE53#32
  | 48 => 0xBF248DBB#32
  | 49 => 0x3F407893#32
  | 50 => 0xBF57E880#32
  | 51 => 0x3F6A51DA#32
  | 52 => 0xBF7746EA#32
  | 53 => 0x3F7E7A7A#32
  | 54 => 0xBF7FC1A0#32
  | 55 => 0x3F7B14BE#32
  | 56 => 0xBF708FB2#32
  | 57 => 0x3F60712A#32
  | 58 => 0xBF4B1934#32
  | 59 => 0x3F310700#32
  | 60 => 0xBF12D5E8#32
  | 61 => 0x3EE273AA#32
  | 62 => 0xBE99F61C#32
  | 63 => 0x3E1BC63C#32
  | 64 => 0x80000000#32
  | 65 => 0xBE05A8A8#32
  | 66 => 0x3E8483EE#32
  | 67 => 0xBEC3EF15#32
  | 68 => 0x3F000000#32
  | 69 => 0xBF1BD7CA#32
  | 70 => 0x3F3504F3#32
  | 71 => 0xBF4B1934#32
  | 72 => 0x3F5DB3D7#32
  | 73 => 0xBF6C835E#32
  | 74 => 0x3F7746EA#32
  | 75 => 0xBF7DCF55#32
  | 76 => 0x3F800000#32
  | 77 => 0xBF7DCF55#32
  | 78 => 0x3F7746EA#32
  | 79 => 0xBF6C835E#32
  | 80 => 0x3F5DB3D7#32
  | 81 => 0xBF4B1934#32
  | 82 => 0x3F3504F3#32
  | 83 => 0xBF1BD7CA#32
  | 84 => 0x3F000000#32
  | 85 => 0xBEC3EF15#32
  | 86 => 0x3E8483EE#32
  | 87 => 0xBE05A8A8#32
  | 88 => 0xA50D3132#32
  | 89 => 0x3E05A8A8#32
  | 90 => 0xBE8483EE#32
  | 91 => 0x3EC3EF15#32
  | 92 => 0xBF000000#32
  | 93 => 0x3F1BD7CA#32
  | 94 => 0xBF3504F3#32
  | 95 => 0x3F4B1934#32
  | 96 => 0xBF5DB3D7#32
  | 97 => 0x3F6C835E#32
  | 98 => 0xBF7746EA#32
  | 99 => 0x3F7DCF55#32
  | 100 => 0xBF800000#32
  | 101 => 0x3F7DCF55#32
  | 102 => 0xBF7746EA#32
  | 103 => 0x3F6C835E#32
  | 104 => 0xBF5DB3D7#32
  | 105 => 0x3F4B1934#32
  | 106 => 0xBF3504F3#32
  | 107 => 0x3F1BD7CA#32
  | 108 => 0xBF000000#32
  | 109 => 0x3EC3EF15#32
  | 110 => 0xBE8483EE#32
  | 111 => 0x3E05A8A8#32
  | 112 => 0x80000000#32
  | 113 => 0xBE05A8A8#32
  | 114 => 0x3E8483EE#32
  | 115 => 0xBEC3EF15#32
  | 116 => 0x3F000000#32
  | 117 => 0xBF1BD7CA#32
  | 118 => 0x3F3504F3#32
  | 119 => 0xBF4B1934#32
  | 120 => 0x3F5DB3D7#32
  | 121 => 0xBF6C835E#32
  | 122 => 0x3F7746EA#32
  | 123 => 0xBF7DCF55#32
  | 124 => 0x3F800000#32
  | 125 => 0xBF7DCF55#32
  | 126 => 0x3F7746EA#32
  | 127 => 0xBF6C835E#32
  | _ => 0#32

noncomputable abbrev lit1t0_311 (i : Nat) : BitVec 32 := match i % 128 with
  | 0 => 0x3F5DB3D7#32
  | 1 => 0xBF4B1934#32
  | 2 => 0x3F3504F3#32
  | 3 => 0xBF1BD7CA#32
  | 4 => 0x3F000000#32
  | 5 => 0xBEC3EF15#32
  | 6 => 0x3E8483EE#32
  | 7 => 0xBE05A8A8#32
  | 8 => 0xA50D3132#32
  | 9 => 0x3E05A8A8#32
  | 10 => 0xBE8483EE#32
  | 11 => 0x3EC3EF15#32
  | 12 => 0xBF000000#32
  | 13 => 0x3F1BD7CA#32
  | 14 => 0xBF3504F3#32
  | 15 => 0x3F4B1934#32
  | 16 => 0xBF5DB3D7#32
  | 17 => 0x3F6C835E#32
  | 18 => 0xBF7746EA#32
  | 19 => 0x3F7DCF55#32
  | 20 => 0xBF800000#32
  | 21 => 0x3F7DCF55#32
  | 22 => 0xBF7746EA#32
  | 23 => 0x3F6C835E#32
  | 24 => 0xBF5DB3D7#32
  | 25 => 0x3F4B1934#32
  | 26 => 0xBF3504F3#32
  | 27 => 0x3F1BD7CA#32
  | 28 => 0xBF000000#32
  | 29 => 0x3EC3EF15#32
  | 30 => 0xBE8483EE#32
  | 31 => 0x3E05A8A8#32
  | 32 => 0x80000000#32
  | 33 => 0xBE05A8A8#32
  | 34 => 0x3E8483EE#32
  | 35 => 0xBEC3EF15#32
  | 36 => 0x3F000000#32
  | 37 => 0xBF1BD7CA#32
  | 38 => 0x3F3504F3#32
  | 39 => 0xBF4B1934#32
  | 40 => 0x3F5DB3D7#32
  | 41 => 0xBF6C835E#32
  | 42 => 0x3F7746EA#32
  | 43 => 0xBF7DCF55#32
  | 44 => 0x3F800000#32
  | 45 => 0xBF7DCF55#32
  | 46 => 0x3F7746EA#32
  | 47 => 0xBF6C835E#32
  | 48 => 0x3F5DB3D7#32
  | 49 => 0xBF4B1934#32
  | 50 => 0x3F3504F3#32
  | 51 => 0xBF1BD7CA#32
  | 52 => 0x3F000000#32
  | 53 => 0xBEC3EF15#32
  | 54 => 0x3E8483EE#32
  | 55 => 0xBE05A8A8#32
  | 56 => 0xA50D3132#32
  | 57 => 0x3E05A8A8#32
  | 58 => 0xBE8483EE#32
  | 59 => 0x3EC3EF15#32
  | 60 => 0xBF000000#32
  | 61 => 0x3F1BD7CA#32
  | 62 => 0xBF3504F3#32
  | 63 => 0x3F4B1934#32
  | 64 => 0xBF5DB3D7#32
  | 65 => 0x3F6C835E#32
  | 66 => 0xBF7746EA#32
  | 67 => 0x3F7DCF55#32
  | 68 => 0xBF800000#32
  | 69 => 0x3F7DCF55#32
  | 70 => 0xBF7746EA#32
  | 71 => 0x3F6C835E#32
  | 72 => 0xBF5DB3D7#32
  | 73 => 0x3F4B1934#32
  | 74 => 0xBF3504F3#32
  | 75 => 0x3F1BD7CA#32
  | 76 => 0xBF000000#32
  | 77 => 0x3EC3EF15#32
  | 78 => 0xBE8483EE#32
  | 79 => 0x3E05A8A8#32
  | 80 => 0x80000000#32
  | 81 => 0xBE05A8A8#32
  | 82 => 0x3E8483EE#32
  | 83 => 0xBEC3EF15#32
  | 84 => 0x3F000000#32
  | 85 => 0xBF1BD7CA#32
  | 86 => 0x3F3504F3#32
  | 87 => 0xBF4B1934#32
  | 88 => 0x3F5DB3D7#32
  | 89 => 0xBF6C835E#32
  | 90 => 0x3F7746EA#32
  | 91 => 0xBF7DCF55#32
  | 92 => 0x3F800000#32
  | 93 => 0xBF7DCF55#32
  | 94 => 0x3F7746EA#32
  | 95 => 0xBF6C835E#32
  | 96 => 0x3F5DB3D7#32
  | 97 => 0xBF4B1934#32
  | 98 => 0x3F3504F3#32
  | 99 => 0xBF1BD7CA#32
  | 100 => 0x3F000000#32
  | 101 => 0xBEC3EF15#32
  | 102 => 0x3E8483EE#32
  | 103 => 0xBE05A8A8#32
  | 104 => 0xA50D3132#32
  | 105 => 0x3E05A8A8#32
  | 106 => 0xBE8483EE#32
  | 107 => 0x3EC3EF15#32
  | 108 => 0xBF000000#32
  | 109 => 0x3F1BD7CA#32
  | 110 => 0xBF3504F3#32
  | 111 => 0x3F4B1934#32
  | 112 => 0xBF5DB3D7#32
  | 113 => 0x3F6C835E#32
  | 114 => 0xBF7746EA#32
  | 115 => 0x3F7DCF55#32
  | 116 => 0xBF800000#32
  | 117 => 0x3F7DCF55#32
  | 118 => 0xBF7746EA#32
  | 119 => 0x3F6C835E#32
  | 120 => 0xBF5DB3D7#32
  | 121 => 0x3F4B1934#32
  | 122 => 0xBF3504F3#32
  | 123 => 0x3F1BD7CA#32
  | 124 => 0xBF000000#32
  | 125 => 0x3EC3EF15#32
  | 126 => 0xBE8483EE#32
  | 127 => 0x3E05A8A8#32
  | _ => 0#32

noncomputable abbrev lit1t0_312 (i : Nat) : BitVec 32 := match i % 128 with
  | 0 => 0x80000000#32
  | 1 => 0xBE05A8A8#32
  | 2 => 0x3E8483EE#32
  | 3 => 0xBEC3EF15#32
  | 4 => 0x3F000000#32
  | 5 => 0xBF1BD7CA#32
  | 6 => 0x3F3504F3#32
  | 7 => 0xBF4B1934#32
  | 8 => 0x3F5DB3D7#32
  | 9 => 0xBF6C835E#32
  | 10 => 0x3F7746EA#32
  | 11 => 0xBF7DCF55#32
  | 12 => 0x3F800000#32
  | 13 => 0xBF7DCF55#32
  | 14 => 0x3F7746EA#32
  | 15 => 0xBF6C835E#32
  | 16 => 0x3F5DB3D7#32
  | 17 => 0xBF4B1934#32
  | 18 => 0x3F3504F3#32
  | 19 => 0xBF1BD7CA#32
  | 20 => 0x3F000000#32
  | 21 => 0xBEC3EF15#32
  | 22 => 0x3E8483EE#32
  | 23 => 0xBE05A8A8#32
  | 24 => 0xA50D3132#32
  | 25 => 0x3E05A8A8#32
  | 26 => 0xBE8483EE#32
  | 27 => 0x3EC3EF15#32
  | 28 => 0xBF000000#32
  | 29 => 0x3F1BD7CA#32
  | 30 => 0xBF3504F3#32
  | 31 => 0x3F4B1934#32
  | 32 => 0xBF5DB3D7#32
  | 33 => 0x3F6C835E#32
  | 34 => 0xBF7746EA#32
  | 35 => 0x3F7DCF55#32
  | 36 => 0xBF800000#32
  | 37 => 0x3F7DCF55#32
  | 38 => 0xBF7746EA#32
  | 39 => 0x3F6C835E#32
  | 40 => 0xBF5DB3D7#32
  | 41 => 0x3F4B1934#32
  | 42 => 0xBF3504F3#32
  | 43 => 0x3F1BD7CA#32
  | 44 => 0xBF000000#32
  | 45 => 0x3EC3EF15#32
  | 46 => 0xBE8483EE#32
  | 47 => 0x3E05A8A8#32
  | 48 => 0x80000000#32
  | 49 => 0xBE05A8A8#32
  | 50 => 0x3E8483EE#32
  | 51 => 0xBEC3EF15#32
  | 52 => 0x3F000000#32
  | 53 => 0xBF1BD7CA#32
  | 54 => 0x3F3504F3#32
  | 55 => 0xBF4B1934#32
  | 56 => 0x3F5DB3D7#32
  | 57 => 0xBF6C835E#32
  | 58 => 0x3F7746EA#32
  | 59 => 0xBF7DCF55#32
  | 60 => 0x3F800000#32
  | 61 => 0xBF7DCF55#32
  | 62 => 0x3F7746EA#32
  | 63 => 0xBF6C835E#32
  | 64 => 0x3F5DB3D7#32
  | 65 => 0xBF4B1934#32
  | 66 => 0x3F3504F3#32
  | 67 => 0xBF1BD7CA#32
  | 68 => 0x3F000000#32
  | 69 => 0xBEC3EF15#32
  | 70 => 0x3E8483EE#32
  | 71 => 0xBE05A8A8#32
  | 72 => 0xA50D3132#32
  | 73 => 0x3E05A8A8#32
  | 74 => 0xBE8483EE#32
  | 75 => 0x3EC3EF15#32
  | 76 => 0xBF000000#32
  | 77 => 0x3F1BD7CA#32
  | 78 => 0xBF3504F3#32
  | 79 => 0x3F4B1934#32
  | 80 => 0xBF5DB3D7#32
  | 81 => 0x3F6C835E#32
  | 82 => 0xBF7746EA#32
  | 83 => 0x3F7DCF55#32
  | 84 => 0xBF800000#32
  | 85 => 0x3F7DCF55#32
  | 86 => 0xBF7746EA#32
  | 87 => 0x3F6C835E#32
  | 88 => 0xBF5DB3D7#32
  | 89 => 0x3F4B1934#32
  | 90 => 0xBF3504F3#32
  | 91 => 0x3F1BD7CA#32
  | 92 => 0xBF000000#32
  | 93 => 0x3EC3EF15#32
  | 94 => 0xBE8483EE#32
  | 95 => 0x3E05A8A8#32
  | 96 => 0x80000000#32
  | 97 => 0xBDDEF599#32
  | 98 => 0x3E5DA259#32
  | 99 => 0xBEA493B7#32
  | 100 => 0x3ED8616C#32
  | 101 => 0xBF04CE53#32
  | 102 => 0x3F1BD7CA#32
  | 103 => 0xBF310700#32
  | 104 => 0x3F441B7D#32
  | 105 => 0xBF54DB31#32
  | 106 => 0x3F631324#32
  | 107 => 0xBF6E9811#32
  | 108 => 0x3F7746EA#32
  | 109 => 0xBF7D0543#32
  | 110 => 0x3F7FC1A0#32
  | 111 => 0xBF7F73AF#32
  | 112 => 0x3F7C1C5C#32
  | 113 => 0xBF75C5D4#32
  | 114 => 0x3F6C835E#32
  | 115 => 0xBF60712A#32
  | 116 => 0x3F51B3F3#32
  | 117 => 0xBF407893#32
  | 118 => 0x3F2CF37B#32
  | 119 => 0xBF176012#32
  | 120 => 0x3F000000#32
  | 121 => 0xBECE34D0#32
  | 122 => 0x3E99F61C#32
  | 123 => 0xBE47C5C2#32
  | 124 => 0x3DB27EB6#32
  | 125 => 0x3CB2B521#32
  | 126 => 0xBE05A8A8#32
  | 127 => 0x3E7363EE#32
  | _ => 0#32

noncomputable abbrev lit1t0_313 (i : Nat) : BitVec 32 := match i % 128 with
  | 0 => 0xBEAF1D44#32
  | 1 => 0x3EE273AA#32
  | 2 => 0xBF098C78#32
  | 3 => 0x3F203C85#32
  | 4 => 0xBF3504F3#32
  | 5 => 0x3F47A682#32
  | 6 => 0xBF57E880#32
  | 7 => 0x3F659974#32
  | 8 => 0xBF708FB2#32
  | 9 => 0x3F78A9E0#32
  | 10 => 0xBF7DCF55#32
  | 11 => 0x3F7FF067#32
  | 12 => 0xBF7F069E#32
  | 13 => 0x3F7B14BE#32
  | 14 => 0xBF7426CB#32
  | 15 => 0x3F6A51DA#32
  | 16 => 0xBF5DB3D7#32
  | 17 => 0x3F4E7327#32
  | 18 => 0xBF3CBE35#32
  | 19 => 0x3F28CAE3#32
  | 20 => 0xBF12D5E8#32
  | 21 => 0x3EF64429#32
  | 22 => 0xBEC3EF15#32
  | 23 => 0x3E8F45C0#32
  | 24 => 0xBE31D0D4#32
  | 25 => 0x3D85F213#32
  | 26 => 0x3D32AA3E#32
  | 27 => 0xBE1BC63C#32
  | 28 => 0x3E8483EE#32
  | 29 => 0xBEB9917B#32
  | 30 => 0x3EEC6A50#32
  | 31 => 0xBF0E39DA#32
  | 32 => 0x3F248DBB#32
  | 33 => 0xBF38ECD8#32
  | 34 => 0x3F4B1934#32
  | 35 => 0xBF5ADB81#32
  | 36 => 0x3F6803CA#32
  | 37 => 0xBF726A03#32
  | 38 => 0x3F79EE89#32
  | 39 => 0xBF7E7A7A#32
  | 40 => 0x3F800000#32
  | 41 => 0xBF7E7A7A#32
  | 42 => 0x3F79EE89#32
  | 43 => 0xBF726A03#32
  | 44 => 0x3F6803CA#32
  | 45 => 0xBF5ADB81#32
  | 46 => 0x3F4B1934#32
  | 47 => 0xBF38ECD8#32
  | 48 => 0x3F248DBB#32
  | 49 => 0xBF0E39DA#32
  | 50 => 0x3EEC6A50#32
  | 51 => 0xBEB9917B#32
  | 52 => 0x3E8483EE#32
  | 53 => 0xBE1BC63C#32
  | 54 => 0x3D32AA3E#32
  | 55 => 0x3D85F213#32
  | 56 => 0xBE31D0D4#32
  | 57 => 0x3E8F45C0#32
  | 58 => 0xBEC3EF15#32
  | 59 => 0x3EF64429#32
  | 60 => 0xBF12D5E8#32
  | 61 => 0x3F28CAE3#32
  | 62 => 0xBF3CBE35#32
  | 63 => 0x3F4E7327#32
  | 64 => 0xBF5DB3D7#32
  | 65 => 0x3F6A51DA#32
  | 66 => 0xBF7426CB#32
  | 67 => 0x3F7B14BE#32
  | 68 => 0xBF7F069E#32
  | 69 => 0x3F7FF067#32
  | 70 => 0xBF7DCF55#32
  | 71 => 0x3F78A9E0#32
  | 72 => 0xBF708FB2#32
  | 73 => 0x3F659974#32
  | 74 => 0xBF57E880#32
  | 75 => 0x3F47A682#32
  | 76 => 0xBF3504F3#32
  | 77 => 0x3F203C85#32
  | 78 => 0xBF098C78#32
  | 79 => 0x3EE273AA#32
  | 80 => 0xBEAF1D44#32
  | 81 => 0x3E7363EE#32
  | 82 => 0xBE05A8A8#32
  | 83 => 0x3CB2B521#32
  | 84 => 0x3DB27EB6#32
  | 85 => 0xBE47C5C2#32
  | 86 => 0x3E99F61C#32
  | 87 => 0xBECE34D0#32
  | 88 => 0x3F000000#32
  | 89 => 0xBF176012#32
  | 90 => 0x3F2CF37B#32
  | 91 => 0xBF407893#32
  | 92 => 0x3F51B3F3#32
  | 93 => 0xBF60712A#32
  | 94 => 0x3F6C835E#32
  | 95 => 0xBF75C5D4#32
  | 96 => 0x3F7C1C5C#32
  | 97 => 0xBF7F73AF#32
  | 98 => 0x3F7FC1A0#32
  | 99 => 0xBF7D0543#32
  | 100 => 0x3F7746EA#32
  | 101 => 0xBF6E9811#32
  | 102 => 0x3F631324#32
  | 103 => 0xBF54DB31#32
  | 104 => 0x3F441B7D#32
  | 105 => 0xBF310700#32
  | 106 => 0x3F1BD7CA#32
  | 107 => 0xBF04CE53#32
  | 108 => 0x3ED8616C#32
  | 109 => 0xBEA493B7#32
  | 110 => 0x3E5DA259#32
  | 111 => 0xBDDEF599#32
  | 112 => 0xA50D3132#32
  | 113 => 0x3DDEF599#32
  | 114 => 0xBE5DA259#32
  | 115 => 0x3EA493B7#32
  | 116 => 0xBED8616C#32
  | 117 => 0x3F04CE53#32
  | 118 => 0xBF1BD7CA#32
  | 119 => 0x3F310700#32
  | 120 => 0xBF441B7D#32
  | 121 => 0x3F54DB31#32
  | 122 => 0xBF631324#32
  | 123 => 0x3F6E9811#32
  | 124 => 0xBF7746EA#32
  | 125 => 0x3F7D0543#32
  | 126 => 0xBF7FC1A0#32
  | 127 => 0x3F7F73AF#32
  | _ => 0#32

noncomputable abbrev lit1t0_314 (i : Nat) : BitVec 32 := match i % 128 with
  | 0 => 0xBF7C1C5C#32
  | 1 => 0x3F75C5D4#32
  | 2 => 0xBF6C835E#32
  | 3 => 0x3F60712A#32
  | 4 => 0xBF51B3F3#32
  | 5 => 0x3F407893#32
  | 6 => 0xBF2CF37B#32
  | 7 => 0x3F176012#32
  | 8 => 0xBF000000#32
  | 9 => 0x3ECE34D0#32
  | 10 => 0xBE99F61C#32
  | 11 => 0x3E47C5C2#32
  | 12 => 0xBDB27EB6#32
  | 13 => 0xBCB2B521#32
  | 14 => 0x3E05A8A8#32
  | 15 => 0xBE7363EE#32
  | 16 => 0x3EAF1D44#32
  | 17 => 0xBEE273AA#32
  | 18 => 0x3F098C78#32
  | 19 => 0xBF203C85#32
  | 20 => 0x3F3504F3#32
  | 21 => 0xBF47A682#32
  | 22 => 0x3F57E880#32
  | 23 => 0xBF659974#32
  | 24 => 0x3F708FB2#32
  | 25 => 0xBF78A9E0#32
  | 26 => 0x3F7DCF55#32
  | 27 => 0xBF7FF067#32
  | 28 => 0x3F7F069E#32
  | 29 => 0xBF7B14BE#32
  | 30 => 0x3F7426CB#32
  | 31 => 0xBF6A51DA#32
  | 32 => 0x3F5DB3D7#32
  | 33 => 0xBF4E7327#32
  | 34 => 0x3F3CBE35#32
  | 35 => 0xBF28CAE3#32
  | 36 => 0x3F12D5E8#32
  | 37 => 0xBEF64429#32
  | 38 => 0x3EC3EF15#32
  | 39 => 0xBE8F45C0#32
  | 40 => 0x3E31D0D4#32
  | 41 => 0xBD85F213#32
  | 42 => 0xBD32AA3E#32
  | 43 => 0x3E1BC63C#32
  | 44 => 0xBE8483EE#32
  | 45 => 0x3EB9917B#32
  | 46 => 0xBEEC6A50#32
  | 47 => 0x3F0E39DA#32
  | 48 => 0xBF248DBB#32
  | 49 => 0x3F38ECD8#32
  | 50 => 0xBF4B1934#32
  | 51 => 0x3F5ADB81#32
  | 52 => 0xBF6803CA#32
  | 53 => 0x3F726A03#32
  | 54 => 0xBF79EE89#32
  | 55 => 0x3F7E7A7A#32
  | 56 => 0xBF800000#32
  | 57 => 0x3F7E7A7A#32
  | 58 => 0xBF79EE89#32
  | 59 => 0x3F726A03#32
  | 60 => 0xBF6803CA#32
  | 61 => 0x3F5ADB81#32
  | 62 => 0xBF4B1934#32
  | 63 => 0x3F38ECD8#32
  | 64 => 0xBF248DBB#32
  | 65 => 0x3F0E39DA#32
  | 66 => 0xBEEC6A50#32
  | 67 => 0x3EB9917B#32
  | 68 => 0xBE8483EE#32
  | 69 => 0x3E1BC63C#32
  | 70 => 0xBD32AA3E#32
  | 71 => 0xBD85F213#32
  | 72 => 0x3E31D0D4#32
  | 73 => 0xBE8F45C0#32
  | 74 => 0x3EC3EF15#32
  | 75 => 0xBEF64429#32
  | 76 => 0x3F12D5E8#32
  | 77 => 0xBF28CAE3#32
  | 78 => 0x3F3CBE35#32
  | 79 => 0xBF4E7327#32
  | 80 => 0x3F5DB3D7#32
  | 81 => 0xBF6A51DA#32
  | 82 => 0x3F7426CB#32
  | 83 => 0xBF7B14BE#32
  | 84 => 0x3F7F069E#32
  | 85 => 0xBF7FF067#32
  | 86 => 0x3F7DCF55#32
  | 87 => 0xBF78A9E0#32
  | 88 => 0x3F708FB2#32
  | 89 => 0xBF659974#32
  | 90 => 0x3F57E880#32
  | 91 => 0xBF47A682#32
  | 92 => 0x3F3504F3#32
  | 93 => 0xBF203C85#32
  | 94 => 0x3F098C78#32
  | 95 => 0xBEE273AA#32
  | 96 => 0x3EAF1D44#32
  | 97 => 0xBE7363EE#32
  | 98 => 0x3E05A8A8#32
  | 99 => 0xBCB2B521#32
  | 100 => 0xBDB27EB6#32
  | 101 => 0x3E47C5C2#32
  | 102 => 0xBE99F61C#32
  | 103 => 0x3ECE34D0#32
  | 104 => 0xBF000000#32
  | 105 => 0x3F176012#32
  | 106 => 0xBF2CF37B#32
  | 107 => 0x3F407893#32
  | 108 => 0xBF51B3F3#32
  | 109 => 0x3F60712A#32
  | 110 => 0xBF6C835E#32
  | 111 => 0x3F75C5D4#32
  | 112 => 0xBF7C1C5C#32
  | 113 => 0x3F7F73AF#32
  | 114 => 0xBF7FC1A0#32
  | 115 => 0x3F7D0543#32
  | 116 => 0xBF7746EA#32
  | 117 => 0x3F6E9811#32
  | 118 => 0xBF631324#32
  | 119 => 0x3F54DB31#32
  | 120 => 0xBF441B7D#32
  | 121 => 0x3F310700#32
  | 122 => 0xBF1BD7CA#32
  | 123 => 0x3F04CE53#32
  | 124 => 0xBED8616C#32
  | 125 => 0x3EA493B7#32
  | 126 => 0xBE5DA259#32
  | 127 => 0x3DDEF599#32
  | _ => 0#32

noncomputable abbrev lit1t0_315 (i : Nat) : BitVec 32 := match i % 128 with
  | 0 => 0x80000000#32
  | 1 => 0xBDB27EB6#32
  | 2 => 0x3E31D0D4#32
  | 3 => 0xBE8483EE#32
  | 4 => 0x3EAF1D44#32
  | 5 => 0xBED8616C#32
  | 6 => 0x3F000000#32
  | 7 => 0xBF12D5E8#32
  | 8 => 0x3F248DBB#32
  | 9 => 0xBF3504F3#32
  | 10 => 0x3F441B7D#32
  | 11 => 0xBF51B3F3#32
  | 12 => 0x3F5DB3D7#32
  | 13 => 0xBF6803CA#32
  | 14 => 0x3F708FB2#32
  | 15 => 0xBF7746EA#32
  | 16 => 0x3F7C1C5C#32
  | 17 => 0xBF7F069E#32
  | 18 => 0x3F800000#32
  | 19 => 0xBF7F069E#32
  | 20 => 0x3F7C1C5C#32
  | 21 => 0xBF7746EA#32
  | 22 => 0x3F708FB2#32
  | 23 => 0xBF6803CA#32
  | 24 => 0x3F5DB3D7#32
  | 25 => 0xBF51B3F3#32
  | 26 => 0x3F441B7D#32
  | 27 => 0xBF3504F3#32
  | 28 => 0x3F248DBB#32
  | 29 => 0xBF12D5E8#32
  | 30 => 0x3F000000#32
  | 31 => 0xBED8616C#32
  | 32 => 0x3EAF1D44#32
  | 33 => 0xBE8483EE#32
  | 34 => 0x3E31D0D4#32
  | 35 => 0xBDB27EB6#32
  | 36 => 0xA50D3132#32
  | 37 => 0x3DB27EB6#32
  | 38 => 0xBE31D0D4#32
  | 39 => 0x3E8483EE#32
  | 40 => 0xBEAF1D44#32
  | 41 => 0x3ED8616C#32
  | 42 => 0xBF000000#32
  | 43 => 0x3F12D5E8#32
  | 44 => 0xBF248DBB#32
  | 45 => 0x3F3504F3#32
  | 46 => 0xBF441B7D#32
  | 47 => 0x3F51B3F3#32
  | 48 => 0xBF5DB3D7#32
  | 49 => 0x3F6803CA#32
  | 50 => 0xBF708FB2#32
  | 51 => 0x3F7746EA#32
  | 52 => 0xBF7C1C5C#32
  | 53 => 0x3F7F069E#32
  | 54 => 0xBF800000#32
  | 55 => 0x3F7F069E#32
  | 56 => 0xBF7C1C5C#32
  | 57 => 0x3F7746EA#32
  | 58 => 0xBF708FB2#32
  | 59 => 0x3F6803CA#32
  | 60 => 0xBF5DB3D7#32
  | 61 => 0x3F51B3F3#32
  | 62 => 0xBF441B7D#32
  | 63 => 0x3F3504F3#32
  | 64 => 0xBF248DBB#32
  | 65 => 0x3F12D5E8#32
  | 66 => 0xBF000000#32
  | 67 => 0x3ED8616C#32
  | 68 => 0xBEAF1D44#32
  | 69 => 0x3E8483EE#32
  | 70 => 0xBE31D0D4#32
  | 71 => 0x3DB27EB6#32
  | 72 => 0x80000000#32
  | 73 => 0xBDB27EB6#32
  | 74 => 0x3E31D0D4#32
  | 75 => 0xBE8483EE#32
  | 76 => 0x3EAF1D44#32
  | 77 => 0xBED8616C#32
  | 78 => 0x3F000000#32
  | 79 => 0xBF12D5E8#32
  | 80 => 0x3F248DBB#32
  | 81 => 0xBF3504F3#32
  | 82 => 0x3F441B7D#32
  | 83 => 0xBF51B3F3#32
  | 84 => 0x3F5DB3D7#32
  | 85 => 0xBF6803CA#32
  | 86 => 0x3F708FB2#32
  | 87 => 0xBF7746EA#32
  | 88 => 0x3F7C1C5C#32
  | 89 => 0xBF7F069E#32
  | 90 => 0x3F800000#32
  | 91 => 0xBF7F069E#32
  | 92 => 0x3F7C1C5C#32
  | 93 => 0xBF7746EA#32
  | 94 => 0x3F708FB2#32
  | 95 => 0xBF6803CA#32
  | 96 => 0x3F5DB3D7#32
  | 97 => 0xBF51B3F3#32
  | 98 => 0x3F441B7D#32
  | 99 => 0xBF3504F3#32
  | 100 => 0x3F248DBB#32
  | 101 => 0xBF12D5E8#32
  | 102 => 0x3F000000#32
  | 103 => 0xBED8616C#32
  | 104 => 0x3EAF1D44#32
  | 105 => 0xBE8483EE#32
  | 106 => 0x3E31D0D4#32
  | 107 => 0xBDB27EB6#32
  | 108 => 0xA50D3132#32
  | 109 => 0x3DB27EB6#32
  | 110 => 0xBE31D0D4#32
  | 111 => 0x3E8483EE#32
  | 112 => 0xBEAF1D44#32
  | 113 => 0x3ED8616C#32
  | 114 => 0xBF000000#32
  | 115 => 0x3F12D5E8#32
  | 116 => 0xBF248DBB#32
  | 117 => 0x3F3504F3#32
  | 118 => 0xBF441B7D#32
  | 119 => 0x3F51B3F3#32
  | 120 => 0xBF5DB3D7#32
  | 121 => 0x3F6803CA#32
  | 122 => 0xBF708FB2#32
  | 123 => 0x3F7746EA#32
  | 124 => 0xBF7C1C5C#32
  | 125 => 0x3F7F069E#32
  | 126 => 0xBF800000#32
  | 127 => 0x3F7F069E#32
  | _ => 0#32

noncomputable abbrev lit1t0_316 (i : Nat) : BitVec 32 := match i % 128 with
  | 0 => 0xBF7C1C5C#32
  | 1 => 0x3F7746EA#32
  | 2 => 0xBF708FB2#32
  | 3 => 0x3F6803CA#32
  | 4 => 0xBF5DB3D7#32
  | 5 => 0x3F51B3F3#32
  | 6 => 0xBF441B7D#32
  | 7 => 0x3F3504F3#32
  | 8 => 0xBF248DBB#32
  | 9 => 0x3F12D5E8#32
  | 10 => 0xBF000000#32
  | 11 => 0x3ED8616C#32
  | 12 => 0xBEAF1D44#32
  | 13 => 0x3E8483EE#32
  | 14 => 0xBE31D0D4#32
  | 15 => 0x3DB27EB6#32
  | 16 => 0x80000000#32
  | 17 => 0xBDB27EB6#32
  | 18 => 0x3E31D0D4#32
  | 19 => 0xBE8483EE#32
  | 20 => 0x3EAF1D44#32
  | 21 => 0xBED8616C#32
  | 22 => 0x3F000000#32
  | 23 => 0xBF12D5E8#32
  | 24 => 0x3F248DBB#32
  | 25 => 0xBF3504F3#32
  | 26 => 0x3F441B7D#32
  | 27 => 0xBF51B3F3#32
  | 28 => 0x3F5DB3D7#32
  | 29 => 0xBF6803CA#32
  | 30 => 0x3F708FB2#32
  | 31 => 0xBF7746EA#32
  | 32 => 0x3F7C1C5C#32
  | 33 => 0xBF7F069E#32
  | 34 => 0x3F800000#32
  | 35 => 0xBF7F069E#32
  | 36 => 0x3F7C1C5C#32
  | 37 => 0xBF7746EA#32
  | 38 => 0x3F708FB2#32
  | 39 => 0xBF6803CA#32
  | 40 => 0x3F5DB3D7#32
  | 41 => 0xBF51B3F3#32
  | 42 => 0x3F441B7D#32
  | 43 => 0xBF3504F3#32
  | 44 => 0x3F248DBB#32
  | 45 => 0xBF12D5E8#32
  | 46 => 0x3F000000#32
  | 47 => 0xBED8616C#32
  | 48 => 0x3EAF1D44#32
  | 49 => 0xBE8483EE#32
  | 50 => 0x3E31D0D4#32
  | 51 => 0xBDB27EB6#32
  | 52 => 0xA50D3132#32
  | 53 => 0x3DB27EB6#32
  | 54 => 0xBE31D0D4#32
  | 55 => 0x3E8483EE#32
  | 56 => 0xBEAF1D44#32
  | 57 => 0x3ED8616C#32
  | 58 => 0xBF000000#32
  | 59 => 0x3F12D5E8#32
  | 60 => 0xBF248DBB#32
  | 61 => 0x3F3504F3#32
  | 62 => 0xBF441B7D#32
  | 63 => 0x3F51B3F3#32
  | 64 => 0xBF5DB3D7#32
  | 65 => 0x3F6803CA#32
  | 66 => 0xBF708FB2#32
  | 67 => 0x3F7746EA#32
  | 68 => 0xBF7C1C5C#32
  | 69 => 0x3F7F069E#32
  | 70 => 0xBF800000#32
  | 71 => 0x3F7F069E#32
  | 72 => 0xBF7C1C5C#32
  | 73 => 0x3F7746EA#32
  | 74 => 0xBF708FB2#32
  | 75 => 0x3F6803CA#32
  | 76 => 0xBF5DB3D7#32
  | 77 => 0x3F51B3F3#32
  | 78 => 0xBF441B7D#32
  | 79 => 0x3F3504F3#32
  | 80 => 0xBF248DBB#32
  | 81 => 0x3F12D5E8#32
  | 82 => 0xBF000000#32
  | 83 => 0x3ED8616C#32
  | 84 => 0xBEAF1D44#32
  | 85 => 0x3E8483EE#32
  | 86 => 0xBE31D0D4#32
  | 87 => 0x3DB27EB6#32
  | 88 => 0x80000000#32
  | 89 => 0xBDB27EB6#32
  | 90 => 0x3E31D0D4#32
  | 91 => 0xBE8483EE#32
  | 92 => 0x3EAF1D44#32
  | 93 => 0xBED8616C#32
  | 94 => 0x3F000000#32
  | 95 => 0xBF12D5E8#32
  | 96 => 0x3F248DBB#32
  | 97 => 0xBF3504F3#32
  | 98 => 0x3F441B7D#32
  | 99 => 0xBF51B3F3#32
  | 100 => 0x3F5DB3D7#32
  | 101 => 0xBF6803CA#32
  | 102 => 0x3F708FB2#32
  | 103 => 0xBF7746EA#32
  | 104 => 0x3F7C1C5C#32
  | 105 => 0xBF7F069E#32
  | 106 => 0x3F800000#32
  | 107 => 0xBF7F069E#32
  | 108 => 0x3F7C1C5C#32
  | 109 => 0xBF7746EA#32
  | 110 => 0x3F708FB2#32
  | 111 => 0xBF6803CA#32
  | 112 => 0x3F5DB3D7#32
  | 113 => 0xBF51B3F3#32
  | 114 => 0x3F441B7D#32
  | 115 => 0xBF3504F3#32
  | 116 => 0x3F248DBB#32
  | 117 => 0xBF12D5E8#32
  | 118 => 0x3F000000#32
  | 119 => 0xBED8616C#32
  | 120 => 0x3EAF1D44#32
  | 121 => 0xBE8483EE#32
  | 122 => 0x3E31D0D4#32
  | 123 => 0xBDB27EB6#32
  | 124 => 0xA50D3132#32
  | 125 => 0x3DB27EB6#32
  | 126 => 0xBE31D0D4#32
  | 127 => 0x3E8483EE#32
  | _ => 0#32

noncomputable abbrev lit1t0_317 (i : Nat) : BitVec 32 := match i % 128 with
  | 0 => 0xBEAF1D44#32
  | 1 => 0x3ED8616C#32
  | 2 => 0xBF000000#32
  | 3 => 0x3F12D5E8#32
  | 4 => 0xBF248DBB#32
  | 5 => 0x3F3504F3#32
  | 6 => 0xBF441B7D#32
  | 7 => 0x3F51B3F3#32
  | 8 => 0xBF5DB3D7#32
  | 9 => 0x3F6803CA#32
  | 10 => 0xBF708FB2#32
  | 11 => 0x3F7746EA#32
  | 12 => 0xBF7C1C5C#32
  | 13 => 0x3F7F069E#32
  | 14 => 0xBF800000#32
  | 15 => 0x3F7F069E#32
  | 16 => 0xBF7C1C5C#32
  | 17 => 0x3F7746EA#32
  | 18 => 0xBF708FB2#32
  | 19 => 0x3F6803CA#32
  | 20 => 0xBF5DB3D7#32
  | 21 => 0x3F51B3F3#32
  | 22 => 0xBF441B7D#32
  | 23 => 0x3F3504F3#32
  | 24 => 0xBF248DBB#32
  | 25 => 0x3F12D5E8#32
  | 26 => 0xBF000000#32
  | 27 => 0x3ED8616C#32
  | 28 => 0xBEAF1D44#32
  | 29 => 0x3E8483EE#32
  | 30 => 0xBE31D0D4#32
  | 31 => 0x3DB27EB6#32
  | 32 => 0x80000000#32
  | 33 => 0xBD85F213#32
  | 34 => 0x3E05A8A8#32
  | 35 => 0xBE47C5C2#32
  | 36 => 0x3E8483EE#32
  | 37 => 0xBEA493B7#32
  | 38 => 0x3EC3EF15#32
  | 39 => 0xBEE273AA#32
  | 40 => 0x3F000000#32
  | 41 => 0xBF0E39DA#32
  | 42 => 0x3F1BD7CA#32
  | 43 => 0xBF28CAE3#32
  | 44 => 0x3F3504F3#32
  | 45 => 0xBF407893#32
  | 46 => 0x3F4B1934#32
  | 47 => 0xBF54DB31#32
  | 48 => 0x3F5DB3D7#32
  | 49 => 0xBF659974#32
  | 50 => 0x3F6C835E#32
  | 51 => 0xBF726A03#32
  | 52 => 0x3F7746EA#32
  | 53 => 0xBF7B14BE#32
  | 54 => 0x3F7DCF55#32
  | 55 => 0xBF7F73AF#32
  | 56 => 0x3F800000#32
  | 57 => 0xBF7F73AF#32
  | 58 => 0x3F7DCF55#32
  | 59 => 0xBF7B14BE#32
  | 60 => 0x3F7746EA#32
  | 61 => 0xBF726A03#32
  | 62 => 0x3F6C835E#32
  | 63 => 0xBF659974#32
  | 64 => 0x3F5DB3D7#32
  | 65 => 0xBF54DB31#32
  | 66 => 0x3F4B1934#32
  | 67 => 0xBF407893#32
  | 68 => 0x3F3504F3#32
  | 69 => 0xBF28CAE3#32
  | 70 => 0x3F1BD7CA#32
  | 71 => 0xBF0E39DA#32
  | 72 => 0x3F000000#32
  | 73 => 0xBEE273AA#32
  | 74 => 0x3EC3EF15#32
  | 75 => 0xBEA493B7#32
  | 76 => 0x3E8483EE#32
  | 77 => 0xBE47C5C2#32
  | 78 => 0x3E05A8A8#32
  | 79 => 0xBD85F213#32
  | 80 => 0xA50D3132#32
  | 81 => 0x3D85F213#32
  | 82 => 0xBE05A8A8#32
  | 83 => 0x3E47C5C2#32
  | 84 => 0xBE8483EE#32
  | 85 => 0x3EA493B7#32
  | 86 => 0xBEC3EF15#32
  | 87 => 0x3EE273AA#32
  | 88 => 0xBF000000#32
  | 89 => 0x3F0E39DA#32
  | 90 => 0xBF1BD7CA#32
  | 91 => 0x3F28CAE3#32
  | 92 => 0xBF3504F3#32
  | 93 => 0x3F407893#32
  | 94 => 0xBF4B1934#32
  | 95 => 0x3F54DB31#32
  | 96 => 0xBF5DB3D7#32
  | 97 => 0x3F659974#32
  | 98 => 0xBF6C835E#32
  | 99 => 0x3F726A03#32
  | 100 => 0xBF7746EA#32
  | 101 => 0x3F7B14BE#32
  | 102 => 0xBF7DCF55#32
  | 103 => 0x3F7F73AF#32
  | 104 => 0xBF800000#32
  | 105 => 0x3F7F73AF#32
  | 106 => 0xBF7DCF55#32
  | 107 => 0x3F7B14BE#32
  | 108 => 0xBF7746EA#32
  | 109 => 0x3F726A03#32
  | 110 => 0xBF6C835E#32
  | 111 => 0x3F659974#32
  | 112 => 0xBF5DB3D7#32
  | 113 => 0x3F54DB31#32
  | 114 => 0xBF4B1934#32
  | 115 => 0x3F407893#32
  | 116 => 0xBF3504F3#32
  | 117 => 0x3F28CAE3#32
  | 118 => 0xBF1BD7CA#32
  | 119 => 0x3F0E39DA#32
  | 120 => 0xBF000000#32
  | 121 => 0x3EE273AA#32
  | 122 => 0xBEC3EF15#32
  | 123 => 0x3EA493B7#32
  | 124 => 0xBE8483EE#32
  | 125 => 0x3E47C5C2#32
  | 126 => 0xBE05A8A8#32
  | 127 => 0x3D85F213#32
  | _ => 0#32

noncomputable abbrev lit1t0_318 (i : Nat) : BitVec 32 := match i % 128 with
  | 0 => 0x80000000#32
  | 1 => 0xBD85F213#32
  | 2 => 0x3E05A8A8#32
  | 3 => 0xBE47C5C2#32
  | 4 => 0x3E8483EE#32
  | 5 => 0xBEA493B7#32
  | 6 => 0x3EC3EF15#32
  | 7 => 0xBEE273AA#32
  | 8 => 0x3F000000#32
  | 9 => 0xBF0E39DA#32
  | 10 => 0x3F1BD7CA#32
  | 11 => 0xBF28CAE3#32
  | 12 => 0x3F3504F3#32
  | 13 => 0xBF407893#32
  | 14 => 0x3F4B1934#32
  | 15 => 0xBF54DB31#32
  | 16 => 0x3F5DB3D7#32
  | 17 => 0xBF659974#32
  | 18 => 0x3F6C835E#32
  | 19 => 0xBF726A03#32
  | 20 => 0x3F7746EA#32
  | 21 => 0xBF7B14BE#32
  | 22 => 0x3F7DCF55#32
  | 23 => 0xBF7F73AF#32
  | 24 => 0x3F800000#32
  | 25 => 0xBF7F73AF#32
  | 26 => 0x3F7DCF55#32
  | 27 => 0xBF7B14BE#32
  | 28 => 0x3F7746EA#32
  | 29 => 0xBF726A03#32
  | 30 => 0x3F6C835E#32
  | 31 => 0xBF659974#32
  | 32 => 0x3F5DB3D7#32
  | 33 => 0xBF54DB31#32
  | 34 => 0x3F4B1934#32
  | 35 => 0xBF407893#32
  | 36 => 0x3F3504F3#32
  | 37 => 0xBF28CAE3#32
  | 38 => 0x3F1BD7CA#32
  | 39 => 0xBF0E39DA#32
  | 40 => 0x3F000000#32
  | 41 => 0xBEE273AA#32
  | 42 => 0x3EC3EF15#32
  | 43 => 0xBEA493B7#32
  | 44 => 0x3E8483EE#32
  | 45 => 0xBE47C5C2#32
  | 46 => 0x3E05A8A8#32
  | 47 => 0xBD85F213#32
  | 48 => 0xA50D3132#32
  | 49 => 0x3D85F213#32
  | 50 => 0xBE05A8A8#32
  | 51 => 0x3E47C5C2#32
  | 52 => 0xBE8483EE#32
  | 53 => 0x3EA493B7#32
  | 54 => 0xBEC3EF15#32
  | 55 => 0x3EE273AA#32
  | 56 => 0xBF000000#32
  | 57 => 0x3F0E39DA#32
  | 58 => 0xBF1BD7CA#32
  | 59 => 0x3F28CAE3#32
  | 60 => 0xBF3504F3#32
  | 61 => 0x3F407893#32
  | 62 => 0xBF4B1934#32
  | 63 => 0x3F54DB31#32
  | 64 => 0xBF5DB3D7#32
  | 65 => 0x3F659974#32
  | 66 => 0xBF6C835E#32
  | 67 => 0x3F726A03#32
  | 68 => 0xBF7746EA#32
  | 69 => 0x3F7B14BE#32
  | 70 => 0xBF7DCF55#32
  | 71 => 0x3F7F73AF#32
  | 72 => 0xBF800000#32
  | 73 => 0x3F7F73AF#32
  | 74 => 0xBF7DCF55#32
  | 75 => 0x3F7B14BE#32
  | 76 => 0xBF7746EA#32
  | 77 => 0x3F726A03#32
  | 78 => 0xBF6C835E#32
  | 79 => 0x3F659974#32
  | 80 => 0xBF5DB3D7#32
  | 81 => 0x3F54DB31#32
  | 82 => 0xBF4B1934#32
  | 83 => 0x3F407893#32
  | 84 => 0xBF3504F3#32
  | 85 => 0x3F28CAE3#32
  | 86 => 0xBF1BD7CA#32
  | 87 => 0x3F0E39DA#32
  | 88 => 0xBF000000#32
  | 89 => 0x3EE273AA#32
  | 90 => 0xBEC3EF15#32
  | 91 => 0x3EA493B7#32
  | 92 => 0xBE8483EE#32
  | 93 => 0x3E47C5C2#32
  | 94 => 0xBE05A8A8#32
  | 95 => 0x3D85F213#32
  | 96 => 0x80000000#32
  | 97 => 0xBD85F213#32
  | 98 => 0x3E05A8A8#32
  | 99 => 0xBE47C5C2#32
  | 100 => 0x3E8483EE#32
  | 101 => 0xBEA493B7#32
  | 102 => 0x3EC3EF15#32
  | 103 => 0xBEE273AA#32
  | 104 => 0x3F000000#32
  | 105 => 0xBF0E39DA#32
  | 106 => 0x3F1BD7CA#32
  | 107 => 0xBF28CAE3#32
  | 108 => 0x3F3504F3#32
  | 109 => 0xBF407893#32
  | 110 => 0x3F4B1934#32
  | 111 => 0xBF54DB31#32
  | 112 => 0x3F5DB3D7#32
  | 113 => 0xBF659974#32
  | 114 => 0x3F6C835E#32
  | 115 => 0xBF726A03#32
  | 116 => 0x3F7746EA#32
  | 117 => 0xBF7B14BE#32
  | 118 => 0x3F7DCF55#32
  | 119 => 0xBF7F73AF#32
  | 120 => 0x3F800000#32
  | 121 => 0xBF7F73AF#32
  | 122 => 0x3F7DCF55#32
  | 123 => 0xBF7B14BE#32
  | 124 => 0x3F7746EA#32
  | 125 => 0xBF726A03#32
  | 126 => 0x3F6C835E#32
  | 127 => 0xBF659974#32
  | _ => 0#32

noncomputable abbrev lit1t0_319 (i : Nat) : BitVec 32 := match i % 128 with
  | 0 => 0x3F5DB3D7#32
  | 1 => 0xBF54DB31#32
  | 2 => 0x3F4B1934#32
  | 3 => 0xBF407893#32
  | 4 => 0x3F3504F3#32
  | 5 => 0xBF28CAE3#32
  | 6 => 0x3F1BD7CA#32
  | 7 => 0xBF0E39DA#32
  | 8 => 0x3F000000#32
  | 9 => 0xBEE273AA#32
  | 10 => 0x3EC3EF15#32
  | 11 => 0xBEA493B7#32
  | 12 => 0x3E8483EE#32
  | 13 => 0xBE47C5C2#32
  | 14 => 0x3E05A8A8#32
  | 15 => 0xBD85F213#32
  | 16 => 0xA50D3132#32
  | 17 => 0x3D85F213#32
  | 18 => 0xBE05A8A8#32
  | 19 => 0x3E47C5C2#32
  | 20 => 0xBE8483EE#32
  | 21 => 0x3EA493B7#32
  | 22 => 0xBEC3EF15#32
  | 23 => 0x3EE273AA#32
  | 24 => 0xBF000000#32
  | 25 => 0x3F0E39DA#32
  | 26 => 0xBF1BD7CA#32
  | 27 => 0x3F28CAE3#32
  | 28 => 0xBF3504F3#32
  | 29 => 0x3F407893#32
  | 30 => 0xBF4B1934#32
  | 31 => 0x3F54DB31#32
  | 32 => 0xBF5DB3D7#32
  | 33 => 0x3F659974#32
  | 34 => 0xBF6C835E#32
  | 35 => 0x3F726A03#32
  | 36 => 0xBF7746EA#32
  | 37 => 0x3F7B14BE#32
  | 38 => 0xBF7DCF55#32
  | 39 => 0x3F7F73AF#32
  | 40 => 0xBF800000#32
  | 41 => 0x3F7F73AF#32
  | 42 => 0xBF7DCF55#32
  | 43 => 0x3F7B14BE#32
  | 44 => 0xBF7746EA#32
  | 45 => 0x3F726A03#32
  | 46 => 0xBF6C835E#32
  | 47 => 0x3F659974#32
  | 48 => 0xBF5DB3D7#32
  | 49 => 0x3F54DB31#32
  | 50 => 0xBF4B1934#32
  | 51 => 0x3F407893#32
  | 52 => 0xBF3504F3#32
  | 53 => 0x3F28CAE3#32
  | 54 => 0xBF1BD7CA#32
  | 55 => 0x3F0E39DA#32
  | 56 => 0xBF000000#32
  | 57 => 0x3EE273AA#32
  | 58 => 0xBEC3EF15#32
  | 59 => 0x3EA493B7#32
  | 60 => 0xBE8483EE#32
  | 61 => 0x3E47C5C2#32
  | 62 => 0xBE05A8A8#32
  | 63 => 0x3D85F213#32
  | 64 => 0x80000000#32
  | 65 => 0xBD32AA3E#32
  | 66 => 0x3DB27EB6#32
  | 67 => 0xBE05A8A8#32
  | 68 => 0x3E31D0D4#32
  | 69 => 0xBE5DA259#32
  | 70 => 0x3E8483EE#32
  | 71 => 0xBE99F61C#32
  | 72 => 0x3EAF1D44#32
  | 73 => 0xBEC3EF15#32
  | 74 => 0x3ED8616C#32
  | 75 => 0xBEEC6A50#32
  | 76 => 0x3F000000#32
  | 77 => 0xBF098C78#32
  | 78 => 0x3F12D5E8#32
  | 79 => 0xBF1BD7CA#32
  | 80 => 0x3F248DBB#32
  | 81 => 0xBF2CF37B#32
  | 82 => 0x3F3504F3#32
  | 83 => 0xBF3CBE35#32
  | 84 => 0x3F441B7D#32
  | 85 => 0xBF4B1934#32
  | 86 => 0x3F51B3F3#32
  | 87 => 0xBF57E880#32
  | 88 => 0x3F5DB3D7#32
  | 89 => 0xBF631324#32
  | 90 => 0x3F6803CA#32
  | 91 => 0xBF6C835E#32
  | 92 => 0x3F708FB2#32
  | 93 => 0xBF7426CB#32
  | 94 => 0x3F7746EA#32
  | 95 => 0xBF79EE89#32
  | 96 => 0x3F7C1C5C#32
  | 97 => 0xBF7DCF55#32
  | 98 => 0x3F7F069E#32
  | 99 => 0xBF7FC1A0#32
  | 100 => 0x3F800000#32
  | 101 => 0xBF7FC1A0#32
  | 102 => 0x3F7F069E#32
  | 103 => 0xBF7DCF55#32
  | 104 => 0x3F7C1C5C#32
  | 105 => 0xBF79EE89#32
  | 106 => 0x3F7746EA#32
  | 107 => 0xBF7426CB#32
  | 108 => 0x3F708FB2#32
  | 109 => 0xBF6C835E#32
  | 110 => 0x3F6803CA#32
  | 111 => 0xBF631324#32
  | 112 => 0x3F5DB3D7#32
  | 113 => 0xBF57E880#32
  | 114 => 0x3F51B3F3#32
  | 115 => 0xBF4B1934#32
  | 116 => 0x3F441B7D#32
  | 117 => 0xBF3CBE35#32
  | 118 => 0x3F3504F3#32
  | 119 => 0xBF2CF37B#32
  | 120 => 0x3F248DBB#32
  | 121 => 0xBF1BD7CA#32
  | 122 => 0x3F12D5E8#32
  | 123 => 0xBF098C78#32
  | 124 => 0x3F000000#32
  | 125 => 0xBEEC6A50#32
  | 126 => 0x3ED8616C#32
  | 127 => 0xBEC3EF15#32
  | _ => 0#32

noncomputable abbrev lit1t0_320 (i : Nat) : BitVec 32 := match i % 128 with
  | 0 => 0x3EAF1D44#32
  | 1 => 0xBE99F61C#32
  | 2 => 0x3E8483EE#32
  | 3 => 0xBE5DA259#32
  | 4 => 0x3E31D0D4#32
  | 5 => 0xBE05A8A8#32
  | 6 => 0x3DB27EB6#32
  | 7 => 0xBD32AA3E#32
  | 8 => 0xA50D3132#32
  | 9 => 0x3D32AA3E#32
  | 10 => 0xBDB27EB6#32
  | 11 => 0x3E05A8A8#32
  | 12 => 0xBE31D0D4#32
  | 13 => 0x3E5DA259#32
  | 14 => 0xBE8483EE#32
  | 15 => 0x3E99F61C#32
  | 16 => 0xBEAF1D44#32
  | 17 => 0x3EC3EF15#32
  | 18 => 0xBED8616C#32
  | 19 => 0x3EEC6A50#32
  | 20 => 0xBF000000#32
  | 21 => 0x3F098C78#32
  | 22 => 0xBF12D5E8#32
  | 23 => 0x3F1BD7CA#32
  | 24 => 0xBF248DBB#32
  | 25 => 0x3F2CF37B#32
  | 26 => 0xBF3504F3#32
  | 27 => 0x3F3CBE35#32
  | 28 => 0xBF441B7D#32
  | 29 => 0x3F4B1934#32
  | 30 => 0xBF51B3F3#32
  | 31 => 0x3F57E880#32
  | 32 => 0xBF5DB3D7#32
  | 33 => 0x3F631324#32
  | 34 => 0xBF6803CA#32
  | 35 => 0x3F6C835E#32
  | 36 => 0xBF708FB2#32
  | 37 => 0x3F7426CB#32
  | 38 => 0xBF7746EA#32
  | 39 => 0x3F79EE89#32
  | 40 => 0xBF7C1C5C#32
  | 41 => 0x3F7DCF55#32
  | 42 => 0xBF7F069E#32
  | 43 => 0x3F7FC1A0#32
  | 44 => 0xBF800000#32
  | 45 => 0x3F7FC1A0#32
  | 46 => 0xBF7F069E#32
  | 47 => 0x3F7DCF55#32
  | 48 => 0xBF7C1C5C#32
  | 49 => 0x3F79EE89#32
  | 50 => 0xBF7746EA#32
  | 51 => 0x3F7426CB#32
  | 52 => 0xBF708FB2#32
  | 53 => 0x3F6C835E#32
  | 54 => 0xBF6803CA#32
  | 55 => 0x3F631324#32
  | 56 => 0xBF5DB3D7#32
  | 57 => 0x3F57E880#32
  | 58 => 0xBF51B3F3#32
  | 59 => 0x3F4B1934#32
  | 60 => 0xBF441B7D#32
  | 61 => 0x3F3CBE35#32
  | 62 => 0xBF3504F3#32
  | 63 => 0x3F2CF37B#32
  | 64 => 0xBF248DBB#32
  | 65 => 0x3F1BD7CA#32
  | 66 => 0xBF12D5E8#32
  | 67 => 0x3F098C78#32
  | 68 => 0xBF000000#32
  | 69 => 0x3EEC6A50#32
  | 70 => 0xBED8616C#32
  | 71 => 0x3EC3EF15#32
  | 72 => 0xBEAF1D44#32
  | 73 => 0x3E99F61C#32
  | 74 => 0xBE8483EE#32
  | 75 => 0x3E5DA259#32
  | 76 => 0xBE31D0D4#32
  | 77 => 0x3E05A8A8#32
  | 78 => 0xBDB27EB6#32
  | 79 => 0x3D32AA3E#32
  | 80 => 0x80000000#32
  | 81 => 0xBD32AA3E#32
  | 82 => 0x3DB27EB6#32
  | 83 => 0xBE05A8A8#32
  | 84 => 0x3E31D0D4#32
  | 85 => 0xBE5DA259#32
  | 86 => 0x3E8483EE#32
  | 87 => 0xBE99F61C#32
  | 88 => 0x3EAF1D44#32
  | 89 => 0xBEC3EF15#32
  | 90 => 0x3ED8616C#32
  | 91 => 0xBEEC6A50#32
  | 92 => 0x3F000000#32
  | 93 => 0xBF098C78#32
  | 94 => 0x3F12D5E8#32
  | 95 => 0xBF1BD7CA#32
  | 96 => 0x3F248DBB#32
  | 97 => 0xBF2CF37B#32
  | 98 => 0x3F3504F3#32
  | 99 => 0xBF3CBE35#32
  | 100 => 0x3F441B7D#32
  | 101 => 0xBF4B1934#32
  | 102 => 0x3F51B3F3#32
  | 103 => 0xBF57E880#32
  | 104 => 0x3F5DB3D7#32
  | 105 => 0xBF631324#32
  | 106 => 0x3F6803CA#32
  | 107 => 0xBF6C835E#32
  | 108 => 0x3F708FB2#32
  | 109 => 0xBF7426CB#32
  | 110 => 0x3F7746EA#32
  | 111 => 0xBF79EE89#32
  | 112 => 0x3F7C1C5C#32
  | 113 => 0xBF7DCF55#32
  | 114 => 0x3F7F069E#32
  | 115 => 0xBF7FC1A0#32
  | 116 => 0x3F800000#32
  | 117 => 0xBF7FC1A0#32
  | 118 => 0x3F7F069E#32
  | 119 => 0xBF7DCF55#32
  | 120 => 0x3F7C1C5C#32
  | 121 => 0xBF79EE89#32
  | 122 => 0x3F7746EA#32
  | 123 => 0xBF7426CB#32
  | 124 => 0x3F708FB2#32
  | 125 => 0xBF6C835E#32
  | 126 => 0x3F6803CA#32
  | 127 => 0xBF631324#32
  | _ => 0#32

noncomputable abbrev lit1t0_321 (i : Nat) : BitVec 32 := match i % 128 with
  | 0 => 0x3F5DB3D7#32
  | 1 => 0xBF57E880#32
  | 2 => 0x3F51B3F3#32
  | 3 => 0xBF4B1934#32
  | 4 => 0x3F441B7D#32
  | 5 => 0xBF3CBE35#32
  | 6 => 0x3F3504F3#32
  | 7 => 0xBF2CF37B#32
  | 8 => 0x3F248DBB#32
  | 9 => 0xBF1BD7CA#32
  | 10 => 0x3F12D5E8#32
  | 11 => 0xBF098C78#32
  | 12 => 0x3F000000#32
  | 13 => 0xBEEC6A50#32
  | 14 => 0x3ED8616C#32
  | 15 => 0xBEC3EF15#32
  | 16 => 0x3EAF1D44#32
  | 17 => 0xBE99F61C#32
  | 18 => 0x3E8483EE#32
  | 19 => 0xBE5DA259#32
  | 20 => 0x3E31D0D4#32
  | 21 => 0xBE05A8A8#32
  | 22 => 0x3DB27EB6#32
  | 23 => 0xBD32AA3E#32
  | 24 => 0xA50D3132#32
  | 25 => 0x3D32AA3E#32
  | 26 => 0xBDB27EB6#32
  | 27 => 0x3E05A8A8#32
  | 28 => 0xBE31D0D4#32
  | 29 => 0x3E5DA259#32
  | 30 => 0xBE8483EE#32
  | 31 => 0x3E99F61C#32
  | 32 => 0xBEAF1D44#32
  | 33 => 0x3EC3EF15#32
  | 34 => 0xBED8616C#32
  | 35 => 0x3EEC6A50#32
  | 36 => 0xBF000000#32
  | 37 => 0x3F098C78#32
  | 38 => 0xBF12D5E8#32
  | 39 => 0x3F1BD7CA#32
  | 40 => 0xBF248DBB#32
  | 41 => 0x3F2CF37B#32
  | 42 => 0xBF3504F3#32
  | 43 => 0x3F3CBE35#32
  | 44 => 0xBF441B7D#32
  | 45 => 0x3F4B1934#32
  | 46 => 0xBF51B3F3#32
  | 47 => 0x3F57E880#32
  | 48 => 0xBF5DB3D7#32
  | 49 => 0x3F631324#32
  | 50 => 0xBF6803CA#32
  | 51 => 0x3F6C835E#32
  | 52 => 0xBF708FB2#32
  | 53 => 0x3F7426CB#32
  | 54 => 0xBF7746EA#32
  | 55 => 0x3F79EE89#32
  | 56 => 0xBF7C1C5C#32
  | 57 => 0x3F7DCF55#32
  | 58 => 0xBF7F069E#32
  | 59 => 0x3F7FC1A0#32
  | 60 => 0xBF800000#32
  | 61 => 0x3F7FC1A0#32
  | 62 => 0xBF7F069E#32
  | 63 => 0x3F7DCF55#32
  | 64 => 0xBF7C1C5C#32
  | 65 => 0x3F79EE89#32
  | 66 => 0xBF7746EA#32
  | 67 => 0x3F7426CB#32
  | 68 => 0xBF708FB2#32
  | 69 => 0x3F6C835E#32
  | 70 => 0xBF6803CA#32
  | 71 => 0x3F631324#32
  | 72 => 0xBF5DB3D7#32
  | 73 => 0x3F57E880#32
  | 74 => 0xBF51B3F3#32
  | 75 => 0x3F4B1934#32
  | 76 => 0xBF441B7D#32
  | 77 => 0x3F3CBE35#32
  | 78 => 0xBF3504F3#32
  | 79 => 0x3F2CF37B#32
  | 80 => 0xBF248DBB#32
  | 81 => 0x3F1BD7CA#32
  | 82 => 0xBF12D5E8#32
  | 83 => 0x3F098C78#32
  | 84 => 0xBF000000#32
  | 85 => 0x3EEC6A50#32
  | 86 => 0xBED8616C#32
  | 87 => 0x3EC3EF15#32
  | 88 => 0xBEAF1D44#32
  | 89 => 0x3E99F61C#32
  | 90 => 0xBE8483EE#32
  | 91 => 0x3E5DA259#32
  | 92 => 0xBE31D0D4#32
  | 93 => 0x3E05A8A8#32
  | 94 => 0xBDB27EB6#32
  | 95 => 0x3D32AA3E#32
  | 96 => 0x80000000#32
  | 97 => 0xBCB2B521#32
  | 98 => 0x3D32AA3E#32
  | 99 => 0xBD85F213#32
  | 100 => 0x3DB27EB6#32
  | 101 => 0xBDDEF599#32
  | 102 => 0x3E05A8A8#32
  | 103 => 0xBE1BC63C#32
  | 104 => 0x3E31D0D4#32
  | 105 => 0xBE47C5C2#32
  | 106 => 0x3E5DA259#32
  | 107 => 0xBE7363EE#32
  | 108 => 0x3E8483EE#32
  | 109 => 0xBE8F45C0#32
  | 110 => 0x3E99F61C#32
  | 111 => 0xBEA493B7#32
  | 112 => 0x3EAF1D44#32
  | 113 => 0xBEB9917B#32
  | 114 => 0x3EC3EF15#32
  | 115 => 0xBECE34D0#32
  | 116 => 0x3ED8616C#32
  | 117 => 0xBEE273AA#32
  | 118 => 0x3EEC6A50#32
  | 119 => 0xBEF64429#32
  | 120 => 0x3F000000#32
  | 121 => 0xBF04CE53#32
  | 122 => 0x3F098C78#32
  | 123 => 0xBF0E39DA#32
  | 124 => 0x3F12D5E8#32
  | 125 => 0xBF176012#32
  | 126 => 0x3F1BD7CA#32
  | 127 => 0xBF203C85#32
  | _ => 0#32

noncomputable abbrev lit1t0_322 (i : Nat) : BitVec 32 := match i % 128 with
  | 0 => 0x3F248DBB#32
  | 1 => 0xBF28CAE3#32
  | 2 => 0x3F2CF37B#32
  | 3 => 0xBF310700#32
  | 4 => 0x3F3504F3#32
  | 5 => 0xBF38ECD8#32
  | 6 => 0x3F3CBE35#32
  | 7 => 0xBF407893#32
  | 8 => 0x3F441B7D#32
  | 9 => 0xBF47A682#32
  | 10 => 0x3F4B1934#32
  | 11 => 0xBF4E7327#32
  | 12 => 0x3F51B3F3#32
  | 13 => 0xBF54DB31#32
  | 14 => 0x3F57E880#32
  | 15 => 0xBF5ADB81#32
  | 16 => 0x3F5DB3D7#32
  | 17 => 0xBF60712A#32
  | 18 => 0x3F631324#32
  | 19 => 0xBF659974#32
  | 20 => 0x3F6803CA#32
  | 21 => 0xBF6A51DA#32
  | 22 => 0x3F6C835E#32
  | 23 => 0xBF6E9811#32
  | 24 => 0x3F708FB2#32
  | 25 => 0xBF726A03#32
  | 26 => 0x3F7426CB#32
  | 27 => 0xBF75C5D4#32
  | 28 => 0x3F7746EA#32
  | 29 => 0xBF78A9E0#32
  | 30 => 0x3F79EE89#32
  | 31 => 0xBF7B14BE#32
  | 32 => 0x3F7C1C5C#32
  | 33 => 0xBF7D0543#32
  | 34 => 0x3F7DCF55#32
  | 35 => 0xBF7E7A7A#32
  | 36 => 0x3F7F069E#32
  | 37 => 0xBF7F73AF#32
  | 38 => 0x3F7FC1A0#32
  | 39 => 0xBF7FF067#32
  | 40 => 0x3F800000#32
  | 41 => 0xBF7FF067#32
  | 42 => 0x3F7FC1A0#32
  | 43 => 0xBF7F73AF#32
  | 44 => 0x3F7F069E#32
  | 45 => 0xBF7E7A7A#32
  | 46 => 0x3F7DCF55#32
  | 47 => 0xBF7D0543#32
  | 48 => 0x3F7C1C5C#32
  | 49 => 0xBF7B14BE#32
  | 50 => 0x3F79EE89#32
  | 51 => 0xBF78A9E0#32
  | 52 => 0x3F7746EA#32
  | 53 => 0xBF75C5D4#32
  | 54 => 0x3F7426CB#32
  | 55 => 0xBF726A03#32
  | 56 => 0x3F708FB2#32
  | 57 => 0xBF6E9811#32
  | 58 => 0x3F6C835E#32
  | 59 => 0xBF6A51DA#32
  | 60 => 0x3F6803CA#32
  | 61 => 0xBF659974#32
  | 62 => 0x3F631324#32
  | 63 => 0xBF60712A#32
  | 64 => 0x3F5DB3D7#32
  | 65 => 0xBF5ADB81#32
  | 66 => 0x3F57E880#32
  | 67 => 0xBF54DB31#32
  | 68 => 0x3F51B3F3#32
  | 69 => 0xBF4E7327#32
  | 70 => 0x3F4B1934#32
  | 71 => 0xBF47A682#32
  | 72 => 0x3F441B7D#32
  | 73 => 0xBF407893#32
  | 74 => 0x3F3CBE35#32
  | 75 => 0xBF38ECD8#32
  | 76 => 0x3F3504F3#32
  | 77 => 0xBF310700#32
  | 78 => 0x3F2CF37B#32
  | 79 => 0xBF28CAE3#32
  | 80 => 0x3F248DBB#32
  | 81 => 0xBF203C85#32
  | 82 => 0x3F1BD7CA#32
  | 83 => 0xBF176012#32
  | 84 => 0x3F12D5E8#32
  | 85 => 0xBF0E39DA#32
  | 86 => 0x3F098C78#32
  | 87 => 0xBF04CE53#32
  | 88 => 0x3F000000#32
  | 89 => 0xBEF64429#32
  | 90 => 0x3EEC6A50#32
  | 91 => 0xBEE273AA#32
  | 92 => 0x3ED8616C#32
  | 93 => 0xBECE34D0#32
  | 94 => 0x3EC3EF15#32
  | 95 => 0xBEB9917B#32
  | 96 => 0x3EAF1D44#32
  | 97 => 0xBEA493B7#32
  | 98 => 0x3E99F61C#32
  | 99 => 0xBE8F45C0#32
  | 100 => 0x3E8483EE#32
  | 101 => 0xBE7363EE#32
  | 102 => 0x3E5DA259#32
  | 103 => 0xBE47C5C2#32
  | 104 => 0x3E31D0D4#32
  | 105 => 0xBE1BC63C#32
  | 106 => 0x3E05A8A8#32
  | 107 => 0xBDDEF599#32
  | 108 => 0x3DB27EB6#32
  | 109 => 0xBD85F213#32
  | 110 => 0x3D32AA3E#32
  | 111 => 0xBCB2B521#32
  | 112 => 0xA50D3132#32
  | 113 => 0x3CB2B521#32
  | 114 => 0xBD32AA3E#32
  | 115 => 0x3D85F213#32
  | 116 => 0xBDB27EB6#32
  | 117 => 0x3DDEF599#32
  | 118 => 0xBE05A8A8#32
  | 119 => 0x3E1BC63C#32
  | 120 => 0xBE31D0D4#32
  | 121 => 0x3E47C5C2#32
  | 122 => 0xBE5DA259#32
  | 123 => 0x3E7363EE#32
  | 124 => 0xBE8483EE#32
  | 125 => 0x3E8F45C0#32
  | 126 => 0xBE99F61C#32
  | 127 => 0x3EA493B7#32
  | _ => 0#32

noncomputable abbrev lit1t0_323 (i : Nat) : BitVec 32 := match i % 128 with
  | 0 => 0xBEAF1D44#32
  | 1 => 0x3EB9917B#32
  | 2 => 0xBEC3EF15#32
  | 3 => 0x3ECE34D0#32
  | 4 => 0xBED8616C#32
  | 5 => 0x3EE273AA#32
  | 6 => 0xBEEC6A50#32
  | 7 => 0x3EF64429#32
  | 8 => 0xBF000000#32
  | 9 => 0x3F04CE53#32
  | 10 => 0xBF098C78#32
  | 11 => 0x3F0E39DA#32
  | 12 => 0xBF12D5E8#32
  | 13 => 0x3F176012#32
  | 14 => 0xBF1BD7CA#32
  | 15 => 0x3F203C85#32
  | 16 => 0xBF248DBB#32
  | 17 => 0x3F28CAE3#32
  | 18 => 0xBF2CF37B#32
  | 19 => 0x3F310700#32
  | 20 => 0xBF3504F3#32
  | 21 => 0x3F38ECD8#32
  | 22 => 0xBF3CBE35#32
  | 23 => 0x3F407893#32
  | 24 => 0xBF441B7D#32
  | 25 => 0x3F47A682#32
  | 26 => 0xBF4B1934#32
  | 27 => 0x3F4E7327#32
  | 28 => 0xBF51B3F3#32
  | 29 => 0x3F54DB31#32
  | 30 => 0xBF57E880#32
  | 31 => 0x3F5ADB81#32
  | 32 => 0xBF5DB3D7#32
  | 33 => 0x3F60712A#32
  | 34 => 0xBF631324#32
  | 35 => 0x3F659974#32
  | 36 => 0xBF6803CA#32
  | 37 => 0x3F6A51DA#32
  | 38 => 0xBF6C835E#32
  | 39 => 0x3F6E9811#32
  | 40 => 0xBF708FB2#32
  | 41 => 0x3F726A03#32
  | 42 => 0xBF7426CB#32
  | 43 => 0x3F75C5D4#32
  | 44 => 0xBF7746EA#32
  | 45 => 0x3F78A9E0#32
  | 46 => 0xBF79EE89#32
  | 47 => 0x3F7B14BE#32
  | 48 => 0xBF7C1C5C#32
  | 49 => 0x3F7D0543#32
  | 50 => 0xBF7DCF55#32
  | 51 => 0x3F7E7A7A#32
  | 52 => 0xBF7F069E#32
  | 53 => 0x3F7F73AF#32
  | 54 => 0xBF7FC1A0#32
  | 55 => 0x3F7FF067#32
  | 56 => 0xBF800000#32
  | 57 => 0x3F7FF067#32
  | 58 => 0xBF7FC1A0#32
  | 59 => 0x3F7F73AF#32
  | 60 => 0xBF7F069E#32
  | 61 => 0x3F7E7A7A#32
  | 62 => 0xBF7DCF55#32
  | 63 => 0x3F7D0543#32
  | 64 => 0xBF7C1C5C#32
  | 65 => 0x3F7B14BE#32
  | 66 => 0xBF79EE89#32
  | 67 => 0x3F78A9E0#32
  | 68 => 0xBF7746EA#32
  | 69 => 0x3F75C5D4#32
  | 70 => 0xBF7426CB#32
  | 71 => 0x3F726A03#32
  | 72 => 0xBF708FB2#32
  | 73 => 0x3F6E9811#32
  | 74 => 0xBF6C835E#32
  | 75 => 0x3F6A51DA#32
  | 76 => 0xBF6803CA#32
  | 77 => 0x3F659974#32
  | 78 => 0xBF631324#32
  | 79 => 0x3F60712A#32
  | 80 => 0xBF5DB3D7#32
  | 81 => 0x3F5ADB81#32
  | 82 => 0xBF57E880#32
  | 83 => 0x3F54DB31#32
  | 84 => 0xBF51B3F3#32
  | 85 => 0x3F4E7327#32
  | 86 => 0xBF4B1934#32
  | 87 => 0x3F47A682#32
  | 88 => 0xBF441B7D#32
  | 89 => 0x3F407893#32
  | 90 => 0xBF3CBE35#32
  | 91 => 0x3F38ECD8#32
  | 92 => 0xBF3504F3#32
  | 93 => 0x3F310700#32
  | 94 => 0xBF2CF37B#32
  | 95 => 0x3F28CAE3#32
  | 96 => 0xBF248DBB#32
  | 97 => 0x3F203C85#32
  | 98 => 0xBF1BD7CA#32
  | 99 => 0x3F176012#32
  | 100 => 0xBF12D5E8#32
  | 101 => 0x3F0E39DA#32
  | 102 => 0xBF098C78#32
  | 103 => 0x3F04CE53#32
  | 104 => 0xBF000000#32
  | 105 => 0x3EF64429#32
  | 106 => 0xBEEC6A50#32
  | 107 => 0x3EE273AA#32
  | 108 => 0xBED8616C#32
  | 109 => 0x3ECE34D0#32
  | 110 => 0xBEC3EF15#32
  | 111 => 0x3EB9917B#32
  | 112 => 0xBEAF1D44#32
  | 113 => 0x3EA493B7#32
  | 114 => 0xBE99F61C#32
  | 115 => 0x3E8F45C0#32
  | 116 => 0xBE8483EE#32
  | 117 => 0x3E7363EE#32
  | 118 => 0xBE5DA259#32
  | 119 => 0x3E47C5C2#32
  | 120 => 0xBE31D0D4#32
  | 121 => 0x3E1BC63C#32
  | 122 => 0xBE05A8A8#32
  | 123 => 0x3DDEF599#32
  | 124 => 0xBDB27EB6#32
  | 125 => 0x3D85F213#32
  | 126 => 0xBD32AA3E#32
  | 127 => 0x3CB2B521#32
  | _ => 0#32

noncomputable abbrev lit1t0_324 (i : Nat) : BitVec 32 := match i % 128 with
  | 0 => 0x80000000#32
  | 1 => 0xA50D3132#32
  | 2 => 0x80000000#32
  | 3 => 0xA50D3132#32
  | 4 => 0x80000000#32
  | 5 => 0xA50D3132#32
  | 6 => 0x80000000#32
  | 7 => 0xA50D3132#32
  | 8 => 0x80000000#32
  | 9 => 0xA50D3132#32
  | 10 => 0x80000000#32
  | 11 => 0xA50D3132#32
  | 12 => 0x80000000#32
  | 13 => 0xA50D3132#32
  | 14 => 0x80000000#32
  | 15 => 0xA50D3132#32
  | 16 => 0x80000000#32
  | 17 => 0xA50D3132#32
  | 18 => 0x80000000#32
  | 19 => 0xA50D3132#32
  | 20 => 0x80000000#32
  | 21 => 0xA50D3132#32
  | 22 => 0x80000000#32
  | 23 => 0xA50D3132#32
  | 24 => 0x80000000#32
  | 25 => 0xA50D3132#32
  | 26 => 0x80000000#32
  | 27 => 0xA50D3132#32
  | 28 => 0x80000000#32
  | 29 => 0xA50D3132#32
  | 30 => 0x80000000#32
  | 31 => 0xA50D3132#32
  | 32 => 0x80000000#32
  | 33 => 0xA50D3132#32
  | 34 => 0x80000000#32
  | 35 => 0xA50D3132#32
  | 36 => 0x80000000#32
  | 37 => 0xA50D3132#32
  | 38 => 0x80000000#32
  | 39 => 0xA50D3132#32
  | 40 => 0x80000000#32
  | 41 => 0xA50D3132#32
  | 42 => 0x80000000#32
  | 43 => 0xA50D3132#32
  | 44 => 0x80000000#32
  | 45 => 0xA50D3132#32
  | 46 => 0x80000000#32
  | 47 => 0xA50D3132#32
  | 48 => 0x80000000#32
  | 49 => 0xA50D3132#32
  | 50 => 0x80000000#32
  | 51 => 0xA50D3132#32
  | 52 => 0x80000000#32
  | 53 => 0xA50D3132#32
  | 54 => 0x80000000#32
  | 55 => 0xA50D3132#32
  | 56 => 0x80000000#32
  | 57 => 0xA50D3132#32
  | 58 => 0x80000000#32
  | 59 => 0xA50D3132#32
  | 60 => 0x80000000#32
  | 61 => 0xA50D3132#32
  | 62 => 0x80000000#32
  | 63 => 0xA50D3132#32
  | 64 => 0x80000000#32
  | 65 => 0xA50D3132#32
  | 66 => 0x80000000#32
  | 67 => 0xA50D3132#32
  | 68 => 0x80000000#32
  | 69 => 0xA50D3132#32
  | 70 => 0x80000000#32
  | 71 => 0xA50D3132#32
  | 72 => 0x80000000#32
  | 73 => 0xA50D3132#32
  | 74 => 0x80000000#32
  | 75 => 0xA50D3132#32
  | 76 => 0x80000000#32
  | 77 => 0xA50D3132#32
  | 78 => 0x80000000#32
  | 79 => 0xA50D3132#32
  | 80 => 0x80000000#32
  | 81 => 0xA50D3132#32
  | 82 => 0x80000000#32
  | 83 => 0xA50D3132#32
  | 84 => 0x80000000#32
  | 85 => 0xA50D3132#32
  | 86 => 0x80000000#32
  | 87 => 0xA50D3132#32
  | 88 => 0x80000000#32
  | 89 => 0xA50D3132#32
  | 90 => 0x80000000#32
  | 91 => 0xA50D3132#32
  | 92 => 0x80000000#32
  | 93 => 0xA50D3132#32
  | 94 => 0x80000000#32
  | 95 => 0xA50D3132#32
  | 96 => 0x80000000#32
  | 97 => 0xA50D3132#32
  | 98 => 0x80000000#32
  | 99 => 0xA50D3132#32
  | 100 => 0x80000000#32
  | 101 => 0xA50D3132#32
  | 102 => 0x80000000#32
  | 103 => 0xA50D3132#32
  | 104 => 0x80000000#32
  | 105 => 0xA50D3132#32
  | 106 => 0x80000000#32
  | 107 => 0xA50D3132#32
  | 108 => 0x80000000#32
  | 109 => 0xA50D3132#32
  | 110 => 0x80000000#32
  | 111 => 0xA50D3132#32
  | 112 => 0x80000000#32
  | 113 => 0xA50D3132#32
  | 114 => 0x80000000#32
  | 115 => 0xA50D3132#32
  | 116 => 0x80000000#32
  | 117 => 0xA50D3132#32
  | 118 => 0x80000000#32
  | 119 => 0xA50D3132#32
  | 120 => 0x80000000#32
  | 121 => 0xA50D3132#32
  | 122 => 0x80000000#32
  | 123 => 0xA50D3132#32
  | 124 => 0x80000000#32
  | 125 => 0xA50D3132#32
  | 126 => 0x80000000#32
  | 127 => 0xA50D3132#32
  | _ => 0#32

noncomputable abbrev lit1t0_325 (i : Nat) : BitVec 32 := match i % 128 with
  | 0 => 0x80000000#32
  | 1 => 0xA50D3132#32
  | 2 => 0x80000000#32
  | 3 => 0xA50D3132#32
  | 4 => 0x80000000#32
  | 5 => 0xA50D3132#32
  | 6 => 0x80000000#32
  | 7 => 0xA50D3132#32
  | 8 => 0x80000000#32
  | 9 => 0xA50D3132#32
  | 10 => 0x80000000#32
  | 11 => 0xA50D3132#32
  | 12 => 0x80000000#32
  | 13 => 0xA50D3132#32
  | 14 => 0x80000000#32
  | 15 => 0xA50D3132#32
  | 16 => 0x80000000#32
  | 17 => 0xA50D3132#32
  | 18 => 0x80000000#32
  | 19 => 0xA50D3132#32
  | 20 => 0x80000000#32
  | 21 => 0xA50D3132#32
  | 22 => 0x80000000#32
  | 23 => 0xA50D3132#32
  | 24 => 0x80000000#32
  | 25 => 0xA50D3132#32
  | 26 => 0x80000000#32
  | 27 => 0xA50D3132#32
  | 28 => 0x80000000#32
  | 29 => 0xA50D3132#32
  | 30 => 0x80000000#32
  | 31 => 0xA50D3132#32
  | 32 => 0x80000000#32
  | 33 => 0xA50D3132#32
  | 34 => 0x80000000#32
  | 35 => 0xA50D3132#32
  | 36 => 0x80000000#32
  | 37 => 0xA50D3132#32
  | 38 => 0x80000000#32
  | 39 => 0xA50D3132#32
  | 40 => 0x80000000#32
  | 41 => 0xA50D3132#32
  | 42 => 0x80000000#32
  | 43 => 0xA50D3132#32
  | 44 => 0x80000000#32
  | 45 => 0xA50D3132#32
  | 46 => 0x80000000#32
  | 47 => 0xA50D3132#32
  | 48 => 0x80000000#32
  | 49 => 0xA50D3132#32
  | 50 => 0x80000000#32
  | 51 => 0xA50D3132#32
  | 52 => 0x80000000#32
  | 53 => 0xA50D3132#32
  | 54 => 0x80000000#32
  | 55 => 0xA50D3132#32
  | 56 => 0x80000000#32
  | 57 => 0xA50D3132#32
  | 58 => 0x80000000#32
  | 59 => 0xA50D3132#32
  | 60 => 0x80000000#32
  | 61 => 0xA50D3132#32
  | 62 => 0x80000000#32
  | 63 => 0xA50D3132#32
  | 64 => 0x80000000#32
  | 65 => 0xA50D3132#32
  | 66 => 0x80000000#32
  | 67 => 0xA50D3132#32
  | 68 => 0x80000000#32
  | 69 => 0xA50D3132#32
  | 70 => 0x80000000#32
  | 71 => 0xA50D3132#32
  | 72 => 0x80000000#32
  | 73 => 0xA50D3132#32
  | 74 => 0x80000000#32
  | 75 => 0xA50D3132#32
  | 76 => 0x80000000#32
  | 77 => 0xA50D3132#32
  | 78 => 0x80000000#32
  | 79 => 0xA50D3132#32
  | 80 => 0x80000000#32
  | 81 => 0xA50D3132#32
  | 82 => 0x80000000#32
  | 83 => 0xA50D3132#32
  | 84 => 0x80000000#32
  | 85 => 0xA50D3132#32
  | 86 => 0x80000000#32
  | 87 => 0xA50D3132#32
  | 88 => 0x80000000#32
  | 89 => 0xA50D3132#32
  | 90 => 0x80000000#32
  | 91 => 0xA50D3132#32
  | 92 => 0x80000000#32
  | 93 => 0xA50D3132#32
  | 94 => 0x80000000#32
  | 95 => 0xA50D3132#32
  | 96 => 0x80000000#32
  | 97 => 0xA50D3132#32
  | 98 => 0x80000000#32
  | 99 => 0xA50D3132#32
  | 100 => 0x80000000#32
  | 101 => 0xA50D3132#32
  | 102 => 0x80000000#32
  | 103 => 0xA50D3132#32
  | 104 => 0x80000000#32
  | 105 => 0xA50D3132#32
  | 106 => 0x80000000#32
  | 107 => 0xA50D3132#32
  | 108 => 0x80000000#32
  | 109 => 0xA50D3132#32
  | 110 => 0x80000000#32
  | 111 => 0xA50D3132#32
  | 112 => 0x80000000#32
  | 113 => 0xA50D3132#32
  | 114 => 0x80000000#32
  | 115 => 0xA50D3132#32
  | 116 => 0x80000000#32
  | 117 => 0xA50D3132#32
  | 118 => 0x80000000#32
  | 119 => 0xA50D3132#32
  | 120 => 0x80000000#32
  | 121 => 0xA50D3132#32
  | 122 => 0x80000000#32
  | 123 => 0xA50D3132#32
  | 124 => 0x80000000#32
  | 125 => 0xA50D3132#32
  | 126 => 0x80000000#32
  | 127 => 0xA50D3132#32
  | _ => 0#32

noncomputable abbrev lit1t0_326 (i : Nat) : BitVec 32 := match i % 128 with
  | 0 => 0x80000000#32
  | 1 => 0xA50D3132#32
  | 2 => 0x80000000#32
  | 3 => 0xA50D3132#32
  | 4 => 0x80000000#32
  | 5 => 0xA50D3132#32
  | 6 => 0x80000000#32
  | 7 => 0xA50D3132#32
  | 8 => 0x80000000#32
  | 9 => 0xA50D3132#32
  | 10 => 0x80000000#32
  | 11 => 0xA50D3132#32
  | 12 => 0x80000000#32
  | 13 => 0xA50D3132#32
  | 14 => 0x80000000#32
  | 15 => 0xA50D3132#32
  | 16 => 0x80000000#32
  | 17 => 0xA50D3132#32
  | 18 => 0x80000000#32
  | 19 => 0xA50D3132#32
  | 20 => 0x80000000#32
  | 21 => 0xA50D3132#32
  | 22 => 0x80000000#32
  | 23 => 0xA50D3132#32
  | 24 => 0x80000000#32
  | 25 => 0xA50D3132#32
  | 26 => 0x80000000#32
  | 27 => 0xA50D3132#32
  | 28 => 0x80000000#32
  | 29 => 0xA50D3132#32
  | 30 => 0x80000000#32
  | 31 => 0xA50D3132#32
  | _ => 0#32

noncomputable abbrev lit1t1_0 (i : Nat) : BitVec 32 := match i / 128 % 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | 13 => lit1t0_13 i
  | 14 => lit1t0_14 i
  | 15 => lit1t0_15 i
  | 16 => lit1t0_16 i
  | 17 => lit1t0_17 i
  | 18 => lit1t0_18 i
  | 19 => lit1t0_19 i
  | 20 => lit1t0_20 i
  | 21 => lit1t0_21 i
  | 22 => lit1t0_22 i
  | 23 => lit1t0_23 i
  | 24 => lit1t0_24 i
  | 25 => lit1t0_25 i
  | 26 => lit1t0_26 i
  | 27 => lit1t0_27 i
  | 28 => lit1t0_28 i
  | 29 => lit1t0_29 i
  | 30 => lit1t0_30 i
  | 31 => lit1t0_31 i
  | 32 => lit1t0_32 i
  | 33 => lit1t0_33 i
  | 34 => lit1t0_34 i
  | 35 => lit1t0_35 i
  | 36 => lit1t0_36 i
  | 37 => lit1t0_37 i
  | 38 => lit1t0_38 i
  | 39 => lit1t0_39 i
  | 40 => lit1t0_40 i
  | 41 => lit1t0_41 i
  | 42 => lit1t0_42 i
  | 43 => lit1t0_43 i
  | 44 => lit1t0_44 i
  | 45 => lit1t0_45 i
  | 46 => lit1t0_46 i
  | 47 => lit1t0_47 i
  | 48 => lit1t0_48 i
  | 49 => lit1t0_49 i
  | 50 => lit1t0_50 i
  | 51 => lit1t0_51 i
  | 52 => lit1t0_52 i
  | 53 => lit1t0_53 i
  | 54 => lit1t0_54 i
  | 55 => lit1t0_55 i
  | 56 => lit1t0_56 i
  | 57 => lit1t0_57 i
  | 58 => lit1t0_58 i
  | 59 => lit1t0_59 i
  | 60 => lit1t0_60 i
  | 61 => lit1t0_61 i
  | 62 => lit1t0_62 i
  | 63 => lit1t0_63 i
  | 64 => lit1t0_64 i
  | 65 => lit1t0_65 i
  | 66 => lit1t0_66 i
  | 67 => lit1t0_67 i
  | 68 => lit1t0_68 i
  | 69 => lit1t0_69 i
  | 70 => lit1t0_70 i
  | 71 => lit1t0_71 i
  | 72 => lit1t0_72 i
  | 73 => lit1t0_73 i
  | 74 => lit1t0_74 i
  | 75 => lit1t0_75 i
  | 76 => lit1t0_76 i
  | 77 => lit1t0_77 i
  | 78 => lit1t0_78 i
  | 79 => lit1t0_79 i
  | 80 => lit1t0_80 i
  | 81 => lit1t0_81 i
  | 82 => lit1t0_82 i
  | 83 => lit1t0_83 i
  | 84 => lit1t0_84 i
  | 85 => lit1t0_85 i
  | 86 => lit1t0_86 i
  | 87 => lit1t0_87 i
  | 88 => lit1t0_88 i
  | 89 => lit1t0_89 i
  | 90 => lit1t0_90 i
  | 91 => lit1t0_91 i
  | 92 => lit1t0_92 i
  | 93 => lit1t0_93 i
  | 94 => lit1t0_94 i
  | 95 => lit1t0_95 i
  | 96 => lit1t0_96 i
  | 97 => lit1t0_97 i
  | 98 => lit1t0_98 i
  | 99 => lit1t0_99 i
  | 100 => lit1t0_100 i
  | 101 => lit1t0_101 i
  | 102 => lit1t0_102 i
  | 103 => lit1t0_103 i
  | 104 => lit1t0_104 i
  | 105 => lit1t0_105 i
  | 106 => lit1t0_106 i
  | 107 => lit1t0_107 i
  | 108 => lit1t0_108 i
  | 109 => lit1t0_109 i
  | 110 => lit1t0_110 i
  | 111 => lit1t0_111 i
  | 112 => lit1t0_112 i
  | 113 => lit1t0_113 i
  | 114 => lit1t0_114 i
  | 115 => lit1t0_115 i
  | 116 => lit1t0_116 i
  | 117 => lit1t0_117 i
  | 118 => lit1t0_118 i
  | 119 => lit1t0_119 i
  | 120 => lit1t0_120 i
  | 121 => lit1t0_121 i
  | 122 => lit1t0_122 i
  | 123 => lit1t0_123 i
  | 124 => lit1t0_124 i
  | 125 => lit1t0_125 i
  | 126 => lit1t0_126 i
  | 127 => lit1t0_127 i
  | _ => 0#32

noncomputable abbrev lit1t1_1 (i : Nat) : BitVec 32 := match i / 128 % 128 with
  | 0 => lit1t0_128 i
  | 1 => lit1t0_129 i
  | 2 => lit1t0_130 i
  | 3 => lit1t0_131 i
  | 4 => lit1t0_132 i
  | 5 => lit1t0_133 i
  | 6 => lit1t0_134 i
  | 7 => lit1t0_135 i
  | 8 => lit1t0_136 i
  | 9 => lit1t0_137 i
  | 10 => lit1t0_138 i
  | 11 => lit1t0_139 i
  | 12 => lit1t0_140 i
  | 13 => lit1t0_141 i
  | 14 => lit1t0_142 i
  | 15 => lit1t0_143 i
  | 16 => lit1t0_144 i
  | 17 => lit1t0_145 i
  | 18 => lit1t0_146 i
  | 19 => lit1t0_147 i
  | 20 => lit1t0_148 i
  | 21 => lit1t0_149 i
  | 22 => lit1t0_150 i
  | 23 => lit1t0_151 i
  | 24 => lit1t0_152 i
  | 25 => lit1t0_153 i
  | 26 => lit1t0_154 i
  | 27 => lit1t0_155 i
  | 28 => lit1t0_156 i
  | 29 => lit1t0_157 i
  | 30 => lit1t0_158 i
  | 31 => lit1t0_159 i
  | 32 => lit1t0_160 i
  | 33 => lit1t0_161 i
  | 34 => lit1t0_162 i
  | 35 => lit1t0_163 i
  | 36 => lit1t0_164 i
  | 37 => lit1t0_165 i
  | 38 => lit1t0_166 i
  | 39 => lit1t0_167 i
  | 40 => lit1t0_168 i
  | 41 => lit1t0_169 i
  | 42 => lit1t0_170 i
  | 43 => lit1t0_171 i
  | 44 => lit1t0_172 i
  | 45 => lit1t0_173 i
  | 46 => lit1t0_174 i
  | 47 => lit1t0_175 i
  | 48 => lit1t0_176 i
  | 49 => lit1t0_177 i
  | 50 => lit1t0_178 i
  | 51 => lit1t0_179 i
  | 52 => lit1t0_180 i
  | 53 => lit1t0_181 i
  | 54 => lit1t0_182 i
  | 55 => lit1t0_183 i
  | 56 => lit1t0_184 i
  | 57 => lit1t0_185 i
  | 58 => lit1t0_186 i
  | 59 => lit1t0_187 i
  | 60 => lit1t0_188 i
  | 61 => lit1t0_189 i
  | 62 => lit1t0_190 i
  | 63 => lit1t0_191 i
  | 64 => lit1t0_192 i
  | 65 => lit1t0_193 i
  | 66 => lit1t0_194 i
  | 67 => lit1t0_195 i
  | 68 => lit1t0_196 i
  | 69 => lit1t0_197 i
  | 70 => lit1t0_198 i
  | 71 => lit1t0_199 i
  | 72 => lit1t0_200 i
  | 73 => lit1t0_201 i
  | 74 => lit1t0_202 i
  | 75 => lit1t0_203 i
  | 76 => lit1t0_204 i
  | 77 => lit1t0_205 i
  | 78 => lit1t0_206 i
  | 79 => lit1t0_207 i
  | 80 => lit1t0_208 i
  | 81 => lit1t0_209 i
  | 82 => lit1t0_210 i
  | 83 => lit1t0_211 i
  | 84 => lit1t0_212 i
  | 85 => lit1t0_213 i
  | 86 => lit1t0_214 i
  | 87 => lit1t0_215 i
  | 88 => lit1t0_216 i
  | 89 => lit1t0_217 i
  | 90 => lit1t0_218 i
  | 91 => lit1t0_219 i
  | 92 => lit1t0_220 i
  | 93 => lit1t0_221 i
  | 94 => lit1t0_222 i
  | 95 => lit1t0_223 i
  | 96 => lit1t0_224 i
  | 97 => lit1t0_225 i
  | 98 => lit1t0_226 i
  | 99 => lit1t0_227 i
  | 100 => lit1t0_228 i
  | 101 => lit1t0_229 i
  | 102 => lit1t0_230 i
  | 103 => lit1t0_231 i
  | 104 => lit1t0_232 i
  | 105 => lit1t0_233 i
  | 106 => lit1t0_234 i
  | 107 => lit1t0_235 i
  | 108 => lit1t0_236 i
  | 109 => lit1t0_237 i
  | 110 => lit1t0_238 i
  | 111 => lit1t0_239 i
  | 112 => lit1t0_240 i
  | 113 => lit1t0_241 i
  | 114 => lit1t0_242 i
  | 115 => lit1t0_243 i
  | 116 => lit1t0_244 i
  | 117 => lit1t0_245 i
  | 118 => lit1t0_246 i
  | 119 => lit1t0_247 i
  | 120 => lit1t0_248 i
  | 121 => lit1t0_249 i
  | 122 => lit1t0_250 i
  | 123 => lit1t0_251 i
  | 124 => lit1t0_252 i
  | 125 => lit1t0_253 i
  | 126 => lit1t0_254 i
  | 127 => lit1t0_255 i
  | _ => 0#32

noncomputable abbrev lit1t1_2 (i : Nat) : BitVec 32 := match i / 128 % 128 with
  | 0 => lit1t0_256 i
  | 1 => lit1t0_257 i
  | 2 => lit1t0_258 i
  | 3 => lit1t0_259 i
  | 4 => lit1t0_260 i
  | 5 => lit1t0_261 i
  | 6 => lit1t0_262 i
  | 7 => lit1t0_263 i
  | 8 => lit1t0_264 i
  | 9 => lit1t0_265 i
  | 10 => lit1t0_266 i
  | 11 => lit1t0_267 i
  | 12 => lit1t0_268 i
  | 13 => lit1t0_269 i
  | 14 => lit1t0_270 i
  | 15 => lit1t0_271 i
  | 16 => lit1t0_272 i
  | 17 => lit1t0_273 i
  | 18 => lit1t0_274 i
  | 19 => lit1t0_275 i
  | 20 => lit1t0_276 i
  | 21 => lit1t0_277 i
  | 22 => lit1t0_278 i
  | 23 => lit1t0_279 i
  | 24 => lit1t0_280 i
  | 25 => lit1t0_281 i
  | 26 => lit1t0_282 i
  | 27 => lit1t0_283 i
  | 28 => lit1t0_284 i
  | 29 => lit1t0_285 i
  | 30 => lit1t0_286 i
  | 31 => lit1t0_287 i
  | 32 => lit1t0_288 i
  | 33 => lit1t0_289 i
  | 34 => lit1t0_290 i
  | 35 => lit1t0_291 i
  | 36 => lit1t0_292 i
  | 37 => lit1t0_293 i
  | 38 => lit1t0_294 i
  | 39 => lit1t0_295 i
  | 40 => lit1t0_296 i
  | 41 => lit1t0_297 i
  | 42 => lit1t0_298 i
  | 43 => lit1t0_299 i
  | 44 => lit1t0_300 i
  | 45 => lit1t0_301 i
  | 46 => lit1t0_302 i
  | 47 => lit1t0_303 i
  | 48 => lit1t0_304 i
  | 49 => lit1t0_305 i
  | 50 => lit1t0_306 i
  | 51 => lit1t0_307 i
  | 52 => lit1t0_308 i
  | 53 => lit1t0_309 i
  | 54 => lit1t0_310 i
  | 55 => lit1t0_311 i
  | 56 => lit1t0_312 i
  | 57 => lit1t0_313 i
  | 58 => lit1t0_314 i
  | 59 => lit1t0_315 i
  | 60 => lit1t0_316 i
  | 61 => lit1t0_317 i
  | 62 => lit1t0_318 i
  | 63 => lit1t0_319 i
  | 64 => lit1t0_320 i
  | 65 => lit1t0_321 i
  | 66 => lit1t0_322 i
  | 67 => lit1t0_323 i
  | 68 => lit1t0_324 i
  | 69 => lit1t0_325 i
  | 70 => lit1t0_326 i
  | _ => 0#32

noncomputable abbrev lit1t (i : Nat) : BitVec 32 := match i / 16384 with
  | 0 => lit1t1_0 i
  | 1 => lit1t1_1 i
  | 2 => lit1t1_2 i
  | _ => 0#32

noncomputable abbrev lit1 : Fin 41760 → BitVec 32 := fun ⟨i, _⟩ => lit1t i

def fn_part3 {F : FTy → Type} [FloatOps F] (main_arg5 : IVec S16x1024x1024 8) (main_v56 : FVec F S16x1024x1024 .f32) (main_v57 : FVec F S16x1024x1024 .f32) : IVec S16x1024x20 1 :=
  let main_v58 : FVec F S16x1024x1024 .f32 := maximumf main_v56 main_v57
  let main_v59 : IVec S16x1024x1024 32 := (extui 32 · natLt_8_32) main_arg5
  let main_v60 : FVec F S16x1024x1024 .f32 := sitofp .f32 main_v59
  let main_cst_13 : FVec F S_ .f32 := constant S_ .f32 0x3823D70A#32
  let main_v61 : FVec F S16x1024x1024 .f32 := broadcastInDim S16x1024x1024 ![] bcast_S_S16x1024x1024 main_cst_13
  let main_v62 : FVec F S16x1024x1024 .f32 := mulf main_v60 main_v61
  let main_v63 : FVec F S16x1024x1024 .f32 := addf main_v58 main_v62
  let main_values : FVec F S16x1024x21 .f32 := (fun x => (Host.topK S16x1024x21 2 (FloatOps.cmpfTotal .gt) x sliceFits_S16x1024x1024_S16x1024x21).1) main_v63
  let main_indices : IVec S16x1024x21 32 := (fun x => (Host.topK S16x1024x21 2 (FloatOps.cmpfTotal .gt) x sliceFits_S16x1024x1024_S16x1024x21).2) main_v63
  let main_v64 : FVec F S16x1024x20 .f32 := (extractStridedSlice S16x1024x20 ![0, 0, 0] · slices_S16x1024x21_S16x1024x20_0_0_0) main_values
  let main_v65 : FVec F S16x1024x20 .f32 := (extractStridedSlice S16x1024x20 ![0, 0, 1] · slices_S16x1024x21_S16x1024x20_0_0_1) main_values
  let main_v66 : IVec S16x1024x20 1 := cmpf .ogt main_v64 main_v65
  main_v66

def fn_part2 {F : FTy → Type} [FloatOps F] (main_arg4 : FVec F S30x30 .f32) (main_arg5 : IVec S16x1024x1024 8) (main_v35 : FVec F S16x1024x30 .f32) (main_v37 : FVec F S16x1x1 .f32) (main_cst_8 : FVec F S_ .f32) : IVec S16x1024x20 1 :=
  let main_v38 : FVec F S16x1x1 .f32 := broadcastInDim S16x1x1 ![] bcast_S_S16x1x1 main_cst_8
  let main_v39 : FVec F S16x1x1 .f32 := Host.divf main_v37 main_v38
  let main_v40 : FVec F S16x1024x30 .f32 := broadcastInDim S16x1024x30 ![0, 1, 2] bcast_S16x1x1_S16x1024x30_0_1_2 main_v39
  let main_v41 : FVec F S16x1024x30 .f32 := subf main_v35 main_v40
  let main_v42 : FVec F S16x1024x30 .f32 := mulf main_v41 main_v41
  let main_cst_9 : FVec F S_ .f32 := constant S_ .f32 0x00000000#32
  let main_v43 : FVec F S16 .f32 := (fun x v => Host.reduceAdd x v reducesTo_S16x1024x30_S16_d1_2 h_S_) main_v42 main_cst_9
  let main_v44 : FVec F S16x1x1 .f32 := broadcastInDim S16x1x1 ![0] bcast_S16_S16x1x1_0 main_v43
  let main_cst_10 : FVec F S_ .f32 := constant S_ .f32 0x46F00000#32
  let main_v45 : FVec F S16x1x1 .f32 := broadcastInDim S16x1x1 ![] bcast_S_S16x1x1 main_cst_10
  let main_v46 : FVec F S16x1x1 .f32 := Host.divf main_v44 main_v45
  let main_v47 : FVec F S16x1024x30 .f32 := broadcastInDim S16x1024x30 ![0, 1, 2] bcast_S16x1x1_S16x1024x30_0_1_2 main_v39
  let main_v48 : FVec F S16x1024x30 .f32 := subf main_v35 main_v47
  let main_cst_11 : FVec F S_ .f32 := constant S_ .f32 0x322BCC77#32
  let main_v49 : FVec F S16x1x1 .f32 := broadcastInDim S16x1x1 ![] bcast_S_S16x1x1 main_cst_11
  let main_v50 : FVec F S16x1x1 .f32 := addf main_v46 main_v49
  let main_v51 : FVec F S16x1x1 .f32 := Host.sqrt main_v50
  let main_v52 : FVec F S16x1024x30 .f32 := broadcastInDim S16x1024x30 ![0, 1, 2] bcast_S16x1x1_S16x1024x30_0_1_2 main_v51
  let main_v53 : FVec F S16x1024x30 .f32 := Host.divf main_v48 main_v52
  let main_v54 : FVec F S16x1024x30 .f32 := (fun l r => Host.dotGeneral dot_S16x1024x30_S30x30_S16x1024x30_2_0_01_1_n_n none l r) main_v53 main_arg4
  let main_v55 : FVec F S16x30x1024 .f32 := (transpose S16x30x1024 [0, 2, 1] · transposes_S16x1024x30_S16x30x1024_0_2_1) main_v35
  let main_v56 : FVec F S16x1024x1024 .f32 := (fun l r => Host.dotGeneral dot_S16x1024x30_S16x30x1024_S16x1024x1024_2_1_1_2_0_0 none l r) main_v54 main_v55
  let main_cst_12 : FVec F S_ .f32 := constant S_ .f32 0x00000000#32
  let main_v57 : FVec F S16x1024x1024 .f32 := broadcastInDim S16x1024x1024 ![] bcast_S_S16x1024x1024 main_cst_12
  fn_part3 (F := F) main_arg5 main_v56 main_v57

def fn_part1 {F : FTy → Type} [FloatOps F] (main_arg1 : FVec F S145x32 .f32) (main_arg2 : FVec F S1024x10 .f32) (main_arg3 : FVec F S1024x42x30 .f32) (main_arg4 : FVec F S30x30 .f32) (main_arg5 : IVec S16x1024x1024 8) (main_v15 : FVec F S16x1024x145 .f32) (main_v18 : FVec F S16x1024x1 .f32) : IVec S16x1024x20 1 :=
  let main_v19 : FVec F S16x1024x1 .f32 := Host.sqrt main_v18
  let main_cst_4 : FVec F S_ .f32 := constant S_ .f32 0x2B8CBCCC#32
  let main_v20 : FVec F S16x1024x1 .f32 := broadcastInDim S16x1024x1 ![] bcast_S_S16x1024x1 main_cst_4
  let main_v21 : FVec F S16x1024x1 .f32 := maximumf main_v19 main_v20
  let main_v22 : FVec F S16x1024x145 .f32 := broadcastInDim S16x1024x145 ![0, 1, 2] bcast_S16x1024x1_S16x1024x145_0_1_2 main_v21
  let main_v23 : FVec F S16x1024x145 .f32 := Host.divf main_v15 main_v22
  let main_v24 : FVec F S16x1024x32 .f32 := (fun l r => Host.dotGeneral dot_S16x1024x145_S145x32_S16x1024x32_2_0_01_1_n_n none l r) main_v23 main_arg1
  let main_v25 : FVec F S1x1024x10 .f32 := broadcastInDim S1x1024x10 ![1, 2] bcast_S1024x10_S1x1024x10_1_2 main_arg2
  let main_v26 : FVec F S16x1024x10 .f32 := broadcastInDim S16x1024x10 ![0, 1, 2] bcast_S1x1024x10_S16x1024x10_0_1_2 main_v25
  let main_v27 : FVec F S16x1024x42 .f32 := (fun a b => concatenate S16x1024x42 2 [⟨S16x1024x32, a⟩, ⟨S16x1024x10, b⟩] concatenates_S16x1024x32_S16x1024x10_S16x1024x42_d2) main_v24 main_v26
  let main_v28 : FVec F S16x1024x42x1 .f32 := broadcastInDim S16x1024x42x1 ![0, 1, 2] bcast_S16x1024x42_S16x1024x42x1_0_1_2 main_v27
  let main_v29 : FVec F S1x1024x42x30 .f32 := broadcastInDim S1x1024x42x30 ![1, 2, 3] bcast_S1024x42x30_S1x1024x42x30_1_2_3 main_arg3
  let main_v30 : FVec F S16x1024x42x30 .f32 := broadcastInDim S16x1024x42x30 ![0, 1, 2, 3] bcast_S16x1024x42x1_S16x1024x42x30_0_1_2_3 main_v28
  let main_v31 : FVec F S16x1024x42x30 .f32 := broadcastInDim S16x1024x42x30 ![0, 1, 2, 3] bcast_S1x1024x42x30_S16x1024x42x30_0_1_2_3 main_v29
  let main_v32 : FVec F S16x1024x42x30 .f32 := mulf main_v30 main_v31
  let main_cst_5 : FVec F S_ .f32 := constant S_ .f32 0x00000000#32
  let main_v33 : FVec F S16x1024x30 .f32 := (fun x v => Host.reduceAdd x v reducesTo_S16x1024x42x30_S16x1024x30_d2 h_S_) main_v32 main_cst_5
  let main_cst_6 : FVec F S_ .f32 := constant S_ .f32 0x00000000#32
  let main_v34 : FVec F S16x1024x30 .f32 := broadcastInDim S16x1024x30 ![] bcast_S_S16x1024x30 main_cst_6
  let main_v35 : FVec F S16x1024x30 .f32 := maximumf main_v33 main_v34
  let main_cst_7 : FVec F S_ .f32 := constant S_ .f32 0x00000000#32
  let main_v36 : FVec F S16 .f32 := (fun x v => Host.reduceAdd x v reducesTo_S16x1024x30_S16_d1_2 h_S_) main_v35 main_cst_7
  let main_v37 : FVec F S16x1x1 .f32 := broadcastInDim S16x1x1 ![0] bcast_S16_S16x1x1_0 main_v36
  let main_cst_8 : FVec F S_ .f32 := constant S_ .f32 0x46F00000#32
  fn_part2 (F := F) main_arg4 main_arg5 main_v35 main_v37 main_cst_8

def fn {F : FTy → Type} [FloatOps F] (main_arg0 : FVec F S16x288x1024x1 .f32) (main_arg1 : FVec F S145x32 .f32) (main_arg2 : FVec F S1024x10 .f32) (main_arg3 : FVec F S1024x42x30 .f32) (main_arg4 : FVec F S30x30 .f32) (main_arg5 : IVec S16x1024x1024 8) : IVec S16x1024x20 1 :=
  let main_cst : FVec F S145x288 .f32 := fun i => FloatOps.ofBits .f32 (lit0 (S145x288.rowMajor i))
  let main_cst_0 : FVec F S145x288 .f32 := fun i => FloatOps.ofBits .f32 (lit1 (S145x288.rowMajor i))
  let main_v0 : FVec F S16x288x1024 .f32 := shapeCast S16x288x1024 main_arg0 shapeCasts_S16x288x1024x1_S16x288x1024
  let main_v1 : FVec F S16x1024x288 .f32 := (transpose S16x1024x288 [0, 2, 1] · transposes_S16x288x1024_S16x1024x288_0_2_1) main_v0
  let main_v2 : FVec F S16x1024x145 .f32 := (fun l r => Host.dotGeneral dot_S16x1024x288_S145x288_S16x1024x145_2_1_01_0_n_n none l r) main_v1 main_cst
  let main_v3 : FVec F S16x1024x145 .f32 := (fun l r => Host.dotGeneral dot_S16x1024x288_S145x288_S16x1024x145_2_1_01_0_n_n none l r) main_v1 main_cst_0
  let main_v4 : FVec F S16x1024x145 .f32 := mulf main_v2 main_v2
  let main_v5 : FVec F S16x1024x145 .f32 := mulf main_v3 main_v3
  let main_v6 : FVec F S16x1024x145 .f32 := addf main_v4 main_v5
  let main_v7 : FVec F S16x1024x145 .f32 := Host.sqrt main_v6
  let main_v8 : FVec F S16x1024x145 .f32 := mulf main_v7 main_v7
  let main_cst_1 : FVec F S_ .f32 := constant S_ .f32 0x00000000#32
  let main_v9 : FVec F S16x145 .f32 := (fun x v => Host.reduceAdd x v reducesTo_S16x1024x145_S16x145_d1 h_S_) main_v8 main_cst_1
  let main_v10 : FVec F S16x1x145 .f32 := broadcastInDim S16x1x145 ![0, 2] bcast_S16x145_S16x1x145_0_2 main_v9
  let main_v11 : FVec F S16x1x145 .f32 := Host.sqrt main_v10
  let main_cst_2 : FVec F S_ .f32 := constant S_ .f32 0x2B8CBCCC#32
  let main_v12 : FVec F S16x1x145 .f32 := broadcastInDim S16x1x145 ![] bcast_S_S16x1x145 main_cst_2
  let main_v13 : FVec F S16x1x145 .f32 := maximumf main_v11 main_v12
  let main_v14 : FVec F S16x1024x145 .f32 := broadcastInDim S16x1024x145 ![0, 1, 2] bcast_S16x1x145_S16x1024x145_0_1_2 main_v13
  let main_v15 : FVec F S16x1024x145 .f32 := Host.divf main_v7 main_v14
  let main_v16 : FVec F S16x1024x145 .f32 := mulf main_v15 main_v15
  let main_cst_3 : FVec F S_ .f32 := constant S_ .f32 0x00000000#32
  let main_v17 : FVec F S16x1024 .f32 := (fun x v => Host.reduceAdd x v reducesTo_S16x1024x145_S16x1024_d2 h_S_) main_v16 main_cst_3
  let main_v18 : FVec F S16x1024x1 .f32 := broadcastInDim S16x1024x1 ![0, 1] bcast_S16x1024_S16x1024x1_0_1 main_v17
  fn_part1 (F := F) main_arg1 main_arg2 main_arg3 main_arg4 main_arg5 main_v15 main_v18
-- ==== Kernel.lean ====
abbrev S16x288x1024x1 : Shape := ⟨4, ![16, 288, 1024, 1]⟩
abbrev S145x32 : Shape := ⟨2, ![145, 32]⟩
abbrev S1024x10 : Shape := ⟨2, ![1024, 10]⟩
abbrev S1024x42x30 : Shape := ⟨3, ![1024, 42, 30]⟩
abbrev S30x30 : Shape := ⟨2, ![30, 30]⟩
abbrev S16x1024x1024 : Shape := ⟨3, ![16, 1024, 1024]⟩
abbrev S320x288 : Shape := ⟨2, ![320, 288]⟩
abbrev S16x288x1024 : Shape := ⟨3, ![16, 288, 1024]⟩
abbrev S_ : Shape := ⟨0, ![]⟩
abbrev S32x160 : Shape := ⟨2, ![32, 160]⟩
abbrev S32x145 : Shape := ⟨2, ![32, 145]⟩
abbrev S1 : Shape := ⟨1, ![1]⟩
abbrev S10x1024 : Shape := ⟨2, ![10, 1024]⟩
abbrev S42x30x1024 : Shape := ⟨3, ![42, 30, 1024]⟩
abbrev S16x30x1024 : Shape := ⟨3, ![16, 30, 1024]⟩
abbrev S1x288x1024 : Shape := ⟨3, ![1, 288, 1024]⟩
abbrev S1x30x1024 : Shape := ⟨3, ![1, 30, 1024]⟩
abbrev S288x1024 : Shape := ⟨2, ![288, 1024]⟩
abbrev S320x1024 : Shape := ⟨2, ![320, 1024]⟩
abbrev S160x1024 : Shape := ⟨2, ![160, 1024]⟩
abbrev S160 : Shape := ⟨1, ![160]⟩
abbrev S160x1 : Shape := ⟨2, ![160, 1]⟩
abbrev S1024 : Shape := ⟨1, ![1024]⟩
abbrev S1x1024 : Shape := ⟨2, ![1, 1024]⟩
abbrev S32x1024 : Shape := ⟨2, ![32, 1024]⟩
abbrev S30x1024 : Shape := ⟨2, ![30, 1024]⟩
abbrev S1x1x1 : Shape := ⟨3, ![1, 1, 1]⟩
abbrev S1x30x256 : Shape := ⟨3, ![1, 30, 256]⟩
abbrev S1x256x1024 : Shape := ⟨3, ![1, 256, 1024]⟩
abbrev S30x256 : Shape := ⟨2, ![30, 256]⟩
abbrev S256x1024 : Shape := ⟨2, ![256, 1024]⟩
abbrev S64x128 : Shape := ⟨2, ![64, 128]⟩
abbrev S64 : Shape := ⟨1, ![64]⟩
abbrev S64x1 : Shape := ⟨2, ![64, 1]⟩
abbrev S256x1 : Shape := ⟨2, ![256, 1]⟩
abbrev S256 : Shape := ⟨1, ![256]⟩

abbrev nBuf : Space → Nat
  | .hbm => 20
  | .vmem => 19
  | .smem => 0
  | _ => 0

abbrev bufTy : (tb : Table) → Fin (tcTables nBuf tb) → BufTy
  | .hbm, ⟨0, _⟩ => ⟨S16x288x1024x1, .f32⟩
  | .hbm, ⟨1, _⟩ => ⟨S145x32, .f32⟩
  | .hbm, ⟨2, _⟩ => ⟨S1024x10, .f32⟩
  | .hbm, ⟨3, _⟩ => ⟨S1024x42x30, .f32⟩
  | .hbm, ⟨4, _⟩ => ⟨S30x30, .f32⟩
  | .hbm, ⟨5, _⟩ => ⟨S16x1024x1024, .i8⟩
  | .hbm, ⟨6, _⟩ => ⟨S320x288, .f32⟩
  | .hbm, ⟨7, _⟩ => ⟨S16x288x1024, .f32⟩
  | .hbm, ⟨8, _⟩ => ⟨S_, .f32⟩
  | .hbm, ⟨9, _⟩ => ⟨S32x160, .f32⟩
  | .hbm, ⟨10, _⟩ => ⟨S32x145, .f32⟩
  | .hbm, ⟨11, _⟩ => ⟨S_, .i32⟩
  | .hbm, ⟨12, _⟩ => ⟨S1, .i32⟩
  | .hbm, ⟨13, _⟩ => ⟨S32x160, .f32⟩
  | .hbm, ⟨14, _⟩ => ⟨S10x1024, .f32⟩
  | .hbm, ⟨15, _⟩ => ⟨S42x30x1024, .f32⟩
  | .hbm, ⟨16, _⟩ => ⟨S42x30x1024, .bf16⟩
  | .hbm, ⟨17, _⟩ => ⟨S16x30x1024, .f32⟩
  | .hbm, ⟨18, _⟩ => ⟨S16x30x1024, .f32⟩
  | .hbm, ⟨19, _⟩ => ⟨S16x1024x1024, .f32⟩
  | .local _ .vmem, ⟨0, _⟩ => ⟨S1x288x1024, .f32⟩
  | .local _ .vmem, ⟨1, _⟩ => ⟨S1x288x1024, .f32⟩
  | .local _ .vmem, ⟨2, _⟩ => ⟨S320x288, .f32⟩
  | .local _ .vmem, ⟨3, _⟩ => ⟨S32x160, .f32⟩
  | .local _ .vmem, ⟨4, _⟩ => ⟨S10x1024, .f32⟩
  | .local _ .vmem, ⟨5, _⟩ => ⟨S42x30x1024, .bf16⟩
  | .local _ .vmem, ⟨6, _⟩ => ⟨S30x30, .f32⟩
  | .local _ .vmem, ⟨7, _⟩ => ⟨S1x30x1024, .f32⟩
  | .local _ .vmem, ⟨8, _⟩ => ⟨S1x30x1024, .f32⟩
  | .local _ .vmem, ⟨9, _⟩ => ⟨S1x30x1024, .f32⟩
  | .local _ .vmem, ⟨10, _⟩ => ⟨S1x30x1024, .f32⟩
  | .local _ .vmem, ⟨11, _⟩ => ⟨S1x30x256, .f32⟩
  | .local _ .vmem, ⟨12, _⟩ => ⟨S1x30x256, .f32⟩
  | .local _ .vmem, ⟨13, _⟩ => ⟨S1x30x1024, .f32⟩
  | .local _ .vmem, ⟨14, _⟩ => ⟨S1x30x1024, .f32⟩
  | .local _ .vmem, ⟨15, _⟩ => ⟨S1x256x1024, .i8⟩
  | .local _ .vmem, ⟨16, _⟩ => ⟨S1x256x1024, .i8⟩
  | .local _ .vmem, ⟨17, _⟩ => ⟨S1x256x1024, .f32⟩
  | .local _ .vmem, ⟨18, _⟩ => ⟨S1x256x1024, .f32⟩
  | _, _ => ⟨S16x288x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8_0 : Ref sig .tc := ⟨.hbm, 17, rfl⟩
abbrev main_call0_v8_1 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S42x30x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S30x30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x30x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x30x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x30x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x30x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S16x288x1024x1 : Shape := ⟨4, ![16, 288, 1024, 1]⟩
abbrev S145x32 : Shape := ⟨2, ![145, 32]⟩
abbrev S1024x10 : Shape := ⟨2, ![1024, 10]⟩
abbrev S1024x42x30 : Shape := ⟨3, ![1024, 42, 30]⟩
abbrev S30x30 : Shape := ⟨2, ![30, 30]⟩
abbrev S16x1024x1024 : Shape := ⟨3, ![16, 1024, 1024]⟩
abbrev S145x288 : Shape := ⟨2, ![145, 288]⟩
abbrev S16x288x1024 : Shape := ⟨3, ![16, 288, 1024]⟩
abbrev S16x1024x288 : Shape := ⟨3, ![16, 1024, 288]⟩
abbrev S16x1024x145 : Shape := ⟨3, ![16, 1024, 145]⟩
abbrev S_ : Shape := ⟨0, ![]⟩
abbrev S16x145 : Shape := ⟨2, ![16, 145]⟩
abbrev S16x1x145 : Shape := ⟨3, ![16, 1, 145]⟩
abbrev S16x1024 : Shape := ⟨2, ![16, 1024]⟩
abbrev S16x1024x1 : Shape := ⟨3, ![16, 1024, 1]⟩
abbrev S16x1024x32 : Shape := ⟨3, ![16, 1024, 32]⟩
abbrev S1x1024x10 : Shape := ⟨3, ![1, 1024, 10]⟩
abbrev S16x1024x10 : Shape := ⟨3, ![16, 1024, 10]⟩
abbrev S16x1024x42 : Shape := ⟨3, ![16, 1024, 42]⟩
abbrev S16x1024x42x1 : Shape := ⟨4, ![16, 1024, 42, 1]⟩
abbrev S1x1024x42x30 : Shape := ⟨4, ![1, 1024, 42, 30]⟩
abbrev S16x1024x42x30 : Shape := ⟨4, ![16, 1024, 42, 30]⟩
abbrev S16x1024x30 : Shape := ⟨3, ![16, 1024, 30]⟩
abbrev S16 : Shape := ⟨1, ![16]⟩
abbrev S16x1x1 : Shape := ⟨3, ![16, 1, 1]⟩
abbrev S16x30x1024 : Shape := ⟨3, ![16, 30, 1024]⟩
abbrev S16x1024x20 : Shape := ⟨3, ![16, 1024, 20]⟩
abbrev S1024 : Shape := ⟨1, ![1024]⟩
abbrev S1x1024x1 : Shape := ⟨3, ![1, 1024, 1]⟩
abbrev S16x1024x20x1 : Shape := ⟨4, ![16, 1024, 20, 1]⟩
abbrev S16x1024x20x3 : Shape := ⟨4, ![16, 1024, 20, 3]⟩

abbrev nBuf : Space → Nat
  | .hbm => 138
  | .vmem => 0
  | .smem => 0
  | _ => 0

abbrev hbmTy0_0 (i : Nat) : BufTy := match i % 128 with
  | 0 => ⟨S16x288x1024x1, .f32⟩
  | 1 => ⟨S145x32, .f32⟩
  | 2 => ⟨S1024x10, .f32⟩
  | 3 => ⟨S1024x42x30, .f32⟩
  | 4 => ⟨S30x30, .f32⟩
  | 5 => ⟨S16x1024x1024, .i8⟩
  | 6 => ⟨S145x288, .f32⟩
  | 7 => ⟨S145x288, .f32⟩
  | 8 => ⟨S16x288x1024, .f32⟩
  | 9 => ⟨S16x1024x288, .f32⟩
  | 10 => ⟨S16x1024x145, .f32⟩
  | 11 => ⟨S16x1024x145, .f32⟩
  | 12 => ⟨S16x1024x145, .f32⟩
  | 13 => ⟨S16x1024x145, .f32⟩
  | 14 => ⟨S16x1024x145, .f32⟩
  | 15 => ⟨S16x1024x145, .f32⟩
  | 16 => ⟨S16x1024x145, .f32⟩
  | 17 => ⟨S_, .f32⟩
  | 18 => ⟨S16x145, .f32⟩
  | 19 => ⟨S16x1x145, .f32⟩
  | 20 => ⟨S16x1x145, .f32⟩
  | 21 => ⟨S_, .f32⟩
  | 22 => ⟨S16x1x145, .f32⟩
  | 23 => ⟨S16x1x145, .f32⟩
  | 24 => ⟨S16x1024x145, .f32⟩
  | 25 => ⟨S16x1024x145, .f32⟩
  | 26 => ⟨S16x1024x145, .f32⟩
  | 27 => ⟨S_, .f32⟩
  | 28 => ⟨S16x1024, .f32⟩
  | 29 => ⟨S16x1024x1, .f32⟩
  | 30 => ⟨S16x1024x1, .f32⟩
  | 31 => ⟨S_, .f32⟩
  | 32 => ⟨S16x1024x1, .f32⟩
  | 33 => ⟨S16x1024x1, .f32⟩
  | 34 => ⟨S16x1024x145, .f32⟩
  | 35 => ⟨S16x1024x145, .f32⟩
  | 36 => ⟨S16x1024x32, .f32⟩
  | 37 => ⟨S1x1024x10, .f32⟩
  | 38 => ⟨S16x1024x10, .f32⟩
  | 39 => ⟨S16x1024x42, .f32⟩
  | 40 => ⟨S16x1024x42x1, .f32⟩
  | 41 => ⟨S1x1024x42x30, .f32⟩
  | 42 => ⟨S16x1024x42x30, .f32⟩
  | 43 => ⟨S16x1024x42x30, .f32⟩
  | 44 => ⟨S16x1024x42x30, .f32⟩
  | 45 => ⟨S_, .f32⟩
  | 46 => ⟨S16x1024x30, .f32⟩
  | 47 => ⟨S_, .f32⟩
  | 48 => ⟨S16x1024x30, .f32⟩
  | 49 => ⟨S16x1024x30, .f32⟩
  | 50 => ⟨S_, .f32⟩
  | 51 => ⟨S16, .f32⟩
  | 52 => ⟨S16x1x1, .f32⟩
  | 53 => ⟨S_, .f32⟩
  | 54 => ⟨S16x1x1, .f32⟩
  | 55 => ⟨S16x1x1, .f32⟩
  | 56 => ⟨S16x1024x30, .f32⟩
  | 57 => ⟨S16x1024x30, .f32⟩
  | 58 => ⟨S16x1024x30, .f32⟩
  | 59 => ⟨S_, .f32⟩
  | 60 => ⟨S16, .f32⟩
  | 61 => ⟨S16x1x1, .f32⟩
  | 62 => ⟨S_, .f32⟩
  | 63 => ⟨S16x1x1, .f32⟩
  | 64 => ⟨S16x1x1, .f32⟩
  | 65 => ⟨S16x1024x30, .f32⟩
  | 66 => ⟨S16x1024x30, .f32⟩
  | 67 => ⟨S_, .f32⟩
  | 68 => ⟨S16x1x1, .f32⟩
  | 69 => ⟨S16x1x1, .f32⟩
  | 70 => ⟨S16x1x1, .f32⟩
  | 71 => ⟨S16x1024x30, .f32⟩
  | 72 => ⟨S16x1024x30, .f32⟩
  | 73 => ⟨S16x1024x30, .f32⟩
  | 74 => ⟨S16x30x1024, .f32⟩
  | 75 => ⟨S16x1024x1024, .f32⟩
  | 76 => ⟨S_, .f32⟩
  | 77 => ⟨S16x1024x1024, .f32⟩
  | 78 => ⟨S16x1024x1024, .f32⟩
  | 79 => ⟨S16x1024x1024, .i32⟩
  | 80 => ⟨S16x1024x1024, .f32⟩
  | 81 => ⟨S_, .f32⟩
  | 82 => ⟨S16x1024x1024, .f32⟩
  | 83 => ⟨S16x1024x1024, .f32⟩
  | 84 => ⟨S16x1024x1024, .f32⟩
  | 85 => ⟨S16x1024x20, .f32⟩
  | 86 => ⟨S16x1024x20, .i32⟩
  | 87 => ⟨S16, .i32⟩
  | 88 => ⟨S16x1x1, .i32⟩
  | 89 => ⟨S1024, .i32⟩
  | 90 => ⟨S1x1024x1, .i32⟩
  | 91 => ⟨S_, .f32⟩
  | 92 => ⟨S16x1024x1024, .f32⟩
  | 93 => ⟨S_, .i32⟩
  | 94 => ⟨S16x1x1, .i32⟩
  | 95 => ⟨S16x1x1, .i1⟩
  | 96 => ⟨S_, .i32⟩
  | 97 => ⟨S16x1x1, .i32⟩
  | 98 => ⟨S16x1x1, .i32⟩
  | 99 => ⟨S16x1x1, .i32⟩
  | 100 => ⟨S_, .i32⟩
  | 101 => ⟨S1x1024x1, .i32⟩
  | 102 => ⟨S1x1024x1, .i1⟩
  | 103 => ⟨S_, .i32⟩
  | 104 => ⟨S1x1024x1, .i32⟩
  | 105 => ⟨S1x1024x1, .i32⟩
  | 106 => ⟨S1x1024x1, .i32⟩
  | 107 => ⟨S_, .i32⟩
  | 108 => ⟨S16x1024x20, .i32⟩
  | 109 => ⟨S16x1024x20, .i1⟩
  | 110 => ⟨S_, .i32⟩
  | 111 => ⟨S16x1024x20, .i32⟩
  | 112 => ⟨S16x1024x20, .i32⟩
  | 113 => ⟨S16x1024x20, .i32⟩
  | 114 => ⟨S16x1024x20, .i32⟩
  | 115 => ⟨S16x1024x20, .i32⟩
  | 116 => ⟨S16x1024x20x1, .i32⟩
  | 117 => ⟨S16x1024x20x1, .i32⟩
  | 118 => ⟨S16x1024x20x1, .i32⟩
  | 119 => ⟨S16x1024x20x3, .i32⟩
  | 120 => ⟨S_, .f32⟩
  | 121 => ⟨S16x1024x20, .f32⟩
  | 122 => ⟨S16x1024x1024, .f32⟩
  | 123 => ⟨S16x1024x1024, .f32⟩
  | 124 => ⟨S_, .f32⟩
  | 125 => ⟨S16x1024, .f32⟩
  | 126 => ⟨S_, .f32⟩
  | 127 => ⟨S16x1024, .f32⟩
  | _ => ⟨S16x288x1024x1, .f32⟩

abbrev hbmTy0_1 (i : Nat) : BufTy := match i % 128 with
  | 0 => ⟨S16x1024, .f32⟩
  | 1 => ⟨S16x1024x1, .f32⟩
  | 2 => ⟨S16x1024x1024, .f32⟩
  | 3 => ⟨S16x1024x1024, .f32⟩
  | 4 => ⟨S16x1024x1024, .f32⟩
  | 5 => ⟨S_, .f32⟩
  | 6 => ⟨S16x1024, .f32⟩
  | 7 => ⟨S16x1024x1, .f32⟩
  | 8 => ⟨S16x1024x1024, .f32⟩
  | 9 => ⟨S16x1024x1024, .f32⟩
  | _ => ⟨S16x288x1024x1, .f32⟩

abbrev hbmTy (i : Nat) : BufTy := match i / 128 with
  | 0 => hbmTy0_0 i
  | 1 => hbmTy0_1 i
  | _ => ⟨S16x288x1024x1, .f32⟩

abbrev bufTy : (tb : Table) → Fin (tcTables nBuf tb) → BufTy
  | .hbm, ⟨i, _⟩ => hbmTy i
  | _, _ => ⟨S16x288x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_values : Ref sig .tc := ⟨.hbm, 85, rfl⟩
abbrev main_indices : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_c : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_c_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_20 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_cst_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩

abbrev nD : Nat := 1
abbrev τ : Topo := Topo.v7x

variable {F : FTy → Type} [FloatOps F]
-- ==== Proof.PreRef.lean ====
module

public import proofs.«01_k».proof.Proof.Gen.ReferenceIdeal.Run
public import proofs.«01_k».proof.Proof.Gen.Pre_distinct_top

@[expose] public section

set_option maxRecDepth 16384
set_option maxHeartbeats 1000000

noncomputable section

/-! The precondition, stated of the reference's own ranked values. -/

namespace Cert.ReferenceIdeal.Value

open Idealize.ShloMosaic Idealize.SL.Sem Cert.ReferenceIdeal Cert.ReferenceIdeal.Gen

variable {F : FTy → Type} [FloatOps F]

/-- The precondition's cosine table is the reference's. -/
theorem cos_eq : Cert.Pre_distinct_top.lit0 = Cert.ReferenceIdeal.lit0 := rfl
/-- The precondition's table of negated sines is the reference's. -/
theorem sin_eq : Cert.Pre_distinct_top.lit1 = Cert.ReferenceIdeal.lit1 := rfl

/-- Whether each of the 20 greatest entries of a row of `v` exceeds the next one. -/
def gaps (v : FVec F ⟨3, ![16, 1024, 1024]⟩ .f32) : IVec ⟨3, ![16, 1024, 20]⟩ 1 :=
  cmpf .ogt
    (extractStridedSlice ⟨3, ![16, 1024, 20]⟩ ![0, 0, 0]
      (Host.topK ⟨3, ![16, 1024, 21]⟩ 2 (FloatOps.cmpfTotal .gt) v
        Cert.Pre_distinct_top.Facts.sliceFits_S16x1024x1024_S16x1024x21).1
      Cert.Pre_distinct_top.Facts.slices_S16x1024x21_S16x1024x20_0_0_0)
    (extractStridedSlice ⟨3, ![16, 1024, 20]⟩ ![0, 0, 1]
      (Host.topK ⟨3, ![16, 1024, 21]⟩ 2 (FloatOps.cmpfTotal .gt) v
        Cert.Pre_distinct_top.Facts.sliceFits_S16x1024x1024_S16x1024x21).1
      Cert.Pre_distinct_top.Facts.slices_S16x1024x21_S16x1024x20_0_0_1)

/-- From the layer on, the precondition computes the comparisons of the reference's ranked values. -/
theorem part2_eq (V0 : Valuation τ sig (Elt F)) :
    Cert.Pre_distinct_top.fn_part2 (F := F) (V0 (Proc.devRef .tc main_arg4)) (V0 (Proc.devRef .tc main_arg5))
      (res_main_v35 V0) (broadcastInDim S16x1x1 ![0] bcast_S16_S16x1x1_0 (Host.reduceAdd (res_main_v35 V0) (constant S_ .f32 0x00000000#32) reducesTo_S16x1024x30_S16_d1_2 h_S_))
      (constant S_ .f32 0x46F00000#32) = gaps (res_main_v63 V0) := by
  unfold res_main_v63 res_main_v58 res_main_v41 res_main_v39
  generalize res_main_v35 V0 = x
  generalize V0 (Proc.devRef .tc main_arg4) = a4
  generalize V0 (Proc.devRef .tc main_arg5) = a5
  dsimp only [Cert.Pre_distinct_top.fn_part2, Cert.Pre_distinct_top.fn_part3, gaps]
  rfl

/-- The precondition compares neighbours among the 21 greatest entries of each row of the reference's
    values. -/
theorem pre_eq (V0 : Valuation τ sig (Elt F)) :
    Cert.Pre_distinct_top.fn (F := F) (V0 (Proc.devRef .tc main_arg0)) (V0 (Proc.devRef .tc main_arg1))
      (V0 (Proc.devRef .tc main_arg2)) (V0 (Proc.devRef .tc main_arg3)) (V0 (Proc.devRef .tc main_arg4))
      (V0 (Proc.devRef .tc main_arg5))
    = gaps (res_main_v63 V0) := by
  rw [← part2_eq]
  unfold res_main_v35 res_main_v15 res_main_v7 res_main_v3 res_main_v2 res_main_v1
  generalize V0 (Proc.devRef .tc main_arg0) = a0
  generalize V0 (Proc.devRef .tc main_arg1) = a1
  generalize V0 (Proc.devRef .tc main_arg2) = a2
  generalize V0 (Proc.devRef .tc main_arg3) = a3
  generalize V0 (Proc.devRef .tc main_arg4) = a4
  generalize V0 (Proc.devRef .tc main_arg5) = a5
  unfold Cert.Pre_distinct_top.fn
  rw [cos_eq, sin_eq]
  generalize Cert.ReferenceIdeal.lit0 = t0
  generalize Cert.ReferenceIdeal.lit1 = t1
  dsimp only
  rfl

end Cert.ReferenceIdeal.Value
-- ==== Proof.Run.lean ====
module

public import proofs.«01_k».proof.Proof.Gen.KernelIdeal.Frame

@[expose] public section

set_option maxRecDepth 16384

noncomputable section

/-! The kernel's run, with what the result holds at the end. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, with the result at the second launch's last array and the arguments unchanged. -/
theorem run : θ_run defs (onTc (τ := τ) (main (F := F))) ⟨m, fun _ => 0, ρ⟩ (fun r => ∀ c : Dev nD,
      r.2.mem ((c.tc : Thread nD τ).loc main_v0) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Gen
-- ==== Proof.Model.lean ====
module

public import Idealize.ShloMosaic.Lib.Pointwise
public import Idealize.ShloMosaic.Lib.IdealHost

@[expose] public section

noncomputable section

/-! The graph of one batch entry over the extended reals, as plain sums over indices. -/

namespace Cert.Model

open Idealize.ShloMosaic

/-- The floor of the two norms. -/
def tiny : EReal := Ideal.ofBits .f32 0x2B8CBCCC#32
/-- The number of entries of one layer, 1024 × 30. -/
def count : EReal := Ideal.ofBits .f32 0x46F00000#32
/-- What is added to the variance. -/
def small : EReal := Ideal.ofBits .f32 0x322BCC77#32
/-- The size of one noise step. -/
def step : EReal := Ideal.ofBits .f32 0x3823D70A#32

/-- The pattern of the least value is the least value. -/
theorem bits_bot : Ideal.ofBits .f32 0xFF800000#32 = ⊥ := by
  simp [Ideal.ofBits, Ideal.ieee, -EReal.coe_mul]

/-- The floor of the norms is positive. -/
theorem tiny_pos : 0 < tiny := by
  unfold tiny; simp [Ideal.ofBits, Ideal.ieee, -EReal.coe_mul]
/-- The number of entries is positive. -/
theorem count_pos : 0 < count := by
  unfold count; simp [Ideal.ofBits, Ideal.ieee, -EReal.coe_mul]
/-- What is added to the variance is positive. -/
theorem small_pos : 0 < small := by
  unfold small; simp [Ideal.ofBits, Ideal.ieee, -EReal.coe_mul]
/-- A noise step is positive. -/
theorem step_pos : 0 < step := by
  unfold step; simp [Ideal.ofBits, Ideal.ieee, -EReal.coe_mul]

/-- The size of frequency `f` of node `n`: the root of the squared cosine sum plus the squared sine sum. -/
def mag {m : ℕ} (x : Fin 288 → Fin 1024 → EReal) (c s : Fin m → Fin 288 → EReal) (n : Fin 1024) (f : Fin m) : EReal :=
  Ideal.sqrt ((∑ t, x t n * c f t) * (∑ t, x t n * c f t) + (∑ t, x t n * s f t) * (∑ t, x t n * s f t))

/-- Every frequency divided by its norm over the nodes. -/
def overNodes {m : ℕ} (g : Fin 1024 → Fin m → EReal) (n : Fin 1024) (f : Fin m) : EReal :=
  Ideal.div (g n f) (max (Ideal.sqrt (∑ k, g k f * g k f)) tiny)

/-- Every node divided by its norm over the frequencies. -/
def overFreqs {m : ℕ} (g : Fin 1024 → Fin m → EReal) (n : Fin 1024) (f : Fin m) : EReal :=
  Ideal.div (g n f) (max (Ideal.sqrt (∑ k, g n k * g n k)) tiny)

/-- The embedding of the frequencies. -/
def embed {m : ℕ} (g : Fin 1024 → Fin m → EReal) (E : Fin m → Fin 32 → EReal) (n : Fin 1024) (k : Fin 32) : EReal :=
  ∑ f, g n f * E f k

/-- The node's own layer on its embedding and its node features, cut off below zero. -/
def layer (e : Fin 1024 → Fin 32 → EReal) (nd : Fin 1024 → Fin 10 → EReal)
    (W : Fin 1024 → Fin 42 → Fin 30 → EReal) (n : Fin 1024) (o : Fin 30) : EReal :=
  max (∑ k : Fin 32, e n k * W n ⟨k.val, by omega⟩ o + ∑ k : Fin 10, nd n k * W n ⟨32 + k.val, by omega⟩ o) 0

/-- The mean of a layer. -/
def mean (g : Fin 1024 → Fin 30 → EReal) : EReal := Ideal.div (∑ n, ∑ o, g n o) count

/-- The variance of a layer, with the small constant added. -/
def spread (g : Fin 1024 → Fin 30 → EReal) : EReal :=
  Ideal.div (∑ n, ∑ o, (g n o - mean g) * (g n o - mean g)) count + small

/-- The layer normed and mixed. -/
def mix (g : Fin 1024 → Fin 30 → EReal) (X : Fin 30 → Fin 30 → EReal) (n : Fin 1024) (o : Fin 30) : EReal :=
  ∑ i, Ideal.div (g n i - mean g) (Ideal.sqrt (spread g)) * X i o

/-- The weights between nodes. -/
def adj (g : Fin 1024 → Fin 30 → EReal) (X : Fin 30 → Fin 30 → EReal) (n k : Fin 1024) : EReal :=
  max (∑ o, mix g X n o * g k o) 0

/-- A square is not negative. -/
theorem mul_self_nonneg (x : EReal) : 0 ≤ x * x := by
  rcases le_total 0 x with h | h
  · exact mul_nonneg h h
  · have := mul_nonneg (EReal.neg_nonneg.2 h) (EReal.neg_nonneg.2 h)
    rwa [neg_mul_neg] at this

/-- Zero over a positive number is zero. -/
theorem zero_div {y : EReal} (h : 0 < y) : Ideal.div 0 y = 0 := by
  unfold Ideal.div; rw [if_neg h.ne', zero_mul]

/-- A quotient of a number that is not negative by a positive one is not negative. -/
theorem div_nonneg {x y : EReal} (hx : 0 ≤ x) (h : 0 < y) : 0 ≤ Ideal.div x y := by
  unfold Ideal.div; rw [if_neg h.ne']; exact mul_nonneg hx (EReal.inv_nonneg_of_nonneg h.le)

/-- The variance with the small constant added is positive. -/
theorem spread_pos (g : Fin 1024 → Fin 30 → EReal) : 0 < spread g := by
  have h : 0 ≤ Ideal.div (∑ n, ∑ o, (g n o - mean g) * (g n o - mean g)) count :=
    div_nonneg (Finset.sum_nonneg fun n _ => Finset.sum_nonneg fun o _ => mul_self_nonneg _) count_pos
  calc 0 < small := small_pos
    _ = 0 + small := (zero_add _).symm
    _ ≤ _ := add_le_add_left h _

/-- The root of a real that is not negative is its real root. -/
theorem sqrt_coe {r : ℝ} (h : 0 ≤ r) : Ideal.sqrt (r : EReal) = (Real.sqrt r : EReal) :=
  (rfl : Ideal.sqrt (r : EReal) = if r < 0 then ⊥ else (Real.sqrt r : EReal)).trans (if_neg (not_lt.2 h))

/-- The reciprocal root of a positive real is the inverse of its real root. -/
theorem rsqrt_coe {r : ℝ} (h : 0 < r) : Ideal.rsqrt (r : EReal) = (((Real.sqrt r)⁻¹ : ℝ) : EReal) :=
  (rfl : Ideal.rsqrt (r : EReal) = if r < 0 then ⊥ else if r = 0 then ⊤ else (((Real.sqrt r)⁻¹ : ℝ) : EReal)).trans
    ((if_neg (not_lt.2 h.le)).trans (if_neg h.ne'))

/-- The root of the infinite value is infinite. -/
theorem sqrt_top : Ideal.sqrt ⊤ = ⊤ := rfl
/-- The reciprocal root of the infinite value is zero. -/
theorem rsqrt_top : Ideal.rsqrt ⊤ = 0 := rfl
/-- The root of zero is zero. -/
theorem sqrt_zero : Ideal.sqrt 0 = 0 := by
  have := sqrt_coe (r := 0) le_rfl
  simpa using this

/-- Dividing by a root is multiplying by the reciprocal root. -/
theorem mul_rsqrt (x : EReal) {w : EReal} (h : 0 < w) : x * Ideal.rsqrt w = Ideal.div x (Ideal.sqrt w) := by
  induction w with
  | bot => exact absurd h (by simp)
  | top => rw [rsqrt_top, sqrt_top]; simp [Ideal.div]
  | coe r =>
    have hr : 0 < r := EReal.coe_pos.1 h
    have hs : (Real.sqrt r : EReal) ≠ 0 := by exact_mod_cast (Real.sqrt_pos.2 hr).ne'
    rw [rsqrt_coe hr, sqrt_coe hr.le]
    unfold Ideal.div
    rw [if_neg hs, EReal.coe_inv]

end Cert.Model
-- ==== Proof.StageA.lean ====
module

public import proofs.«01_k».proof.Proof.Gen.KernelIdeal.Frame
public import proofs.«01_k».proof.Proof.Model
public import Idealize.ShloMosaic.Lib.Pipeline.ValueKit

@[expose] public section

set_option maxRecDepth 16384
set_option maxHeartbeats 1000000

noncomputable section

/-! The first stage's output blocks, read at an index. -/

namespace Cert.KernelIdeal.Gen

open Idealize.ShloMosaic Idealize.SL.Sem Cert.Model

variable (x0 : Vec Ideal S1x288x1024 .f32) (x1 : Vec Ideal S320x288 .f32) (x2 : Vec Ideal S32x160 .f32)
  (x3 : Vec Ideal S10x1024 .f32) (x4 : Vec Ideal S42x30x1024 .bf16) (x5 : Vec Ideal S30x30 .f32)

/-- The layer a block of the first stage computes. -/
def featBlock : Fin 1024 → Fin 30 → EReal :=
  layer (embed (overFreqs (overNodes (mag (m := 160) (fun t n => x0 (ix3 0 t n))
      (fun f t => x1 (ix2 ⟨f.val, by omega⟩ t)) (fun f t => x1 (ix2 ⟨160 + f.val, by omega⟩ t)))))
      (fun f k => x2 (ix2 k f)))
    (fun n k => x3 (ix2 k n)) (fun n k o => x4 (ix3 k o n))

/-- The embedding, read at an index. -/
theorem pay25_at (k : Fin 32) (n : Fin 1024) :
    (k0_pay25 x0 x1 x2 x3 x4 x5 (ix2 k n) : EReal)
      = embed (overFreqs (overNodes (mag (m := 160) (fun t n => x0 (ix3 0 t n))
          (fun f t => x1 (ix2 ⟨f.val, by omega⟩ t)) (fun f t => x1 (ix2 ⟨160 + f.val, by omega⟩ t)))))
          (fun f k => x2 (ix2 k f)) n k := by
  have h1 : ∀ (i) (a : EReal), a * (x1 i : EReal) = (x1 i : EReal) * a := fun i a => mul_comm _ _
  have h2 : ∀ (i) (a : EReal), a * (x2 i : EReal) = (x2 i : EReal) * a := fun i a => mul_comm _ _
  unfold embed overFreqs overNodes mag
  simp only [h1, h2]
  unfold k0_pay25
  pointwise [k0_pay3]
  rfl

/-- The products of the layer, added up one by one. -/
theorem sum42 (f : Fin 32 → EReal) (g : Fin 10 → EReal) : ∑ k, f k + ∑ k, g k =
      f 0 + f 1 + f 2 + f 3 + f 4 + f 5 + f 6 + f 7 + f 8 + f 9 + f 10 + f 11 + f 12 + f 13 + f 14 + f 15
      + f 16 + f 17 + f 18 + f 19 + f 20 + f 21 + f 22 + f 23 + f 24 + f 25 + f 26 + f 27 + f 28 + f 29 +
      f 30 + f 31 + g 0 + g 1 + g 2 + g 3 + g 4 + g 5 + g 6 + g 7 + g 8 + g 9 := by
  simp only [Fin.sum_univ_castSucc, Fin.sum_univ_zero, zero_add, ← add_assoc]
  rfl

/-- The layer, read at an index. -/
theorem pay28_at (o : Fin 30) (n : Fin 1024) :
    (k0_pay28 x0 x1 x2 x3 x4 x5 (ix2 o n) : EReal) = featBlock x0 x1 x2 x3 x4 n o := by
  unfold featBlock layer
  simp only [← pay25_at x0 x1 x2 x3 x4 x5]
  unfold k0_pay28 k0_pay26 k0_pay27
  have h25 : k0_pay3 (View.ld x0 r0_0) (View.ld x1 r0_1) (View.ld x2 r0_2) = k0_pay25 x0 x1 x2 x3 x4 x5 := rfl
  pointwise [k0_pay22, k0_pay21, k0_pay20, k0_pay19, k0_pay18, k0_pay17, k0_pay16, k0_pay15, k0_pay14, k0_pay13, k0_pay12,
    k0_pay11, k0_pay10, k0_pay9, k0_pay8, k0_pay7, k0_pay6, k0_pay5, k0_pay4]
  rw [h25]
  generalize k0_pay25 x0 x1 x2 x3 x4 x5 = e
  rw [sum42]
  rfl

/-- The mean the kernel computes, from the layer. -/
theorem pay23_at (a : FVec Ideal S30x1024 .f32) (b : FVec Ideal S1x1024 .f32) (c : Vec Ideal S1x30x1024 .bf16)
    (d : Vec Ideal S1x1024 .f32) (e : Vec Ideal S1x30x1024 .bf16) (f : Vec Ideal S1x1024 .f32)
    (g : Vec Ideal S1x30x1024 .bf16) (y : Fin 1024 → Fin 30 → EReal)
    (hy : ∀ o n, (k0_pay22 a b c d e f g (ix2 o n) : EReal) = y n o) :
    (k0_pay23 a b c d e f g : EReal) = mean y := by
  unfold k0_pay23 mean
  rw [Finset.sum_comm]
  simp only [← hy]
  generalize k0_pay22 a b c d e f g = z
  pointwise
  rfl

/-- The sum of squared distances the kernel computes, from the layer. -/
theorem pay24_at (a : FVec Ideal S30x1024 .f32) (b : FVec Ideal S1x1024 .f32) (c : Vec Ideal S1x30x1024 .bf16)
    (d : Vec Ideal S1x1024 .f32) (e : Vec Ideal S1x30x1024 .bf16) (f : Vec Ideal S1x1024 .f32)
    (g : Vec Ideal S1x30x1024 .bf16) (y : Fin 1024 → Fin 30 → EReal)
    (hy : ∀ o n, (k0_pay22 a b c d e f g (ix2 o n) : EReal) = y n o) :
    (k0_pay24 a b c d e f g : EReal) = ∑ n, ∑ o, (y n o - mean y) * (y n o - mean y) := by
  have hm := pay23_at a b c d e f g y hy
  unfold k0_pay24
  rw [Finset.sum_comm, ← hm]
  simp only [← hy]
  generalize k0_pay23 a b c d e f g = w
  generalize k0_pay22 a b c d e f g = z
  pointwise

/-- The normed and mixed layer, from the layer, its mean and its sum of squared distances. -/
theorem pay2_mix (z : FVec Ideal S30x1024 .f32) (mu s : EReal) (w : Vec Ideal S30x30 .f32) (y : Fin 1024 → Fin 30 → EReal)
    (hy : ∀ o n, (z (ix2 o n) : EReal) = y n o) (hm : mu = mean y)
    (hs : s = ∑ n, ∑ o, (y n o - mean y) * (y n o - mean y)) (o : Fin 30) (n : Fin 1024) :
    (k0_pay2 (F := Ideal) z mu s (Scalar.ofBits .f32 0x46F00000#32) w (ix3 0 o n) : EReal)
      = mix y (fun i o => w (ix2 i o)) n o := by
  have e : (k0_pay2 (F := Ideal) z mu s (Scalar.ofBits .f32 0x46F00000#32) w (ix3 0 o n) : EReal)
      = ∑ i, (w (ix2 i o) : EReal) * ((z (ix2 i n) - mu) * Ideal.rsqrt (Ideal.div s count + small)) := by
    pointwise [k0_pay2]
    rfl
  rw [e]
  unfold mix
  refine Finset.sum_congr rfl fun i _ => ?_
  rw [mul_comm, hy, hm, hs]
  exact congrArg (· * _) (mul_rsqrt _ (spread_pos y))

/-- A store of the whole output block leaves the stored value. -/
theorem whole_layer (w : Vec Ideal S1x30x1024 .f32) :
    View.canon ([⟨r0_56, w⟩] : List (View.Piece (Elt Ideal) S1x30x1024 .f32)) = w :=
  View.canon_cons_unit_lit _ _ _ (by decide)

/-- The first output block: the layer, transposed. -/
theorem out6_at (o : Fin 30) (n : Fin 1024) :
    (out0_6 x0 x1 x2 x3 x4 x5 (ix3 0 o n) : EReal) = featBlock x0 x1 x2 x3 x4 n o := by
  unfold out0_6
  rw [whole_layer, ← pay28_at x0 x1 x2 x3 x4 x5]
  generalize k0_pay28 x0 x1 x2 x3 x4 x5 = z
  pointwise [k0_pay1]

/-- The second output block: the layer normed and mixed, transposed. -/
theorem out7_at (o : Fin 30) (n : Fin 1024) :
    (out0_7 x0 x1 x2 x3 x4 x5 (ix3 0 o n) : EReal)
      = mix (featBlock x0 x1 x2 x3 x4) (fun i o => x5 (ix2 i o)) n o := by
  have hy : ∀ o n, (k0_pay28 x0 x1 x2 x3 x4 x5 (ix2 o n) : EReal) = featBlock x0 x1 x2 x3 x4 n o :=
    pay28_at x0 x1 x2 x3 x4 x5
  unfold out0_7
  rw [whole_layer, pay2_mix _ _ _ _ _ hy (pay23_at _ _ _ _ _ _ _ _ hy) (pay24_at _ _ _ _ _ _ _ _ hy)]
  have hl : ∀ i o, (View.ld x5 r0_55 (ix2 i o) : EReal) = x5 (ix2 i o) := fun i o => by pointwise
  simp only [hl]

end Cert.KernelIdeal.Gen
-- ==== Proof.Slots.lean ====
module

public import Idealize.ShloMosaic.Lib.Pointwise

@[expose] public section

set_option maxRecDepth 16384

namespace Cert.Slots

/-- Eight values of one type, the eight slots of a lane. -/
structure Slots (α : Type) where
  a : α
  b : α
  c : α
  d : α
  e : α
  f : α
  g : α
  h : α

variable {α β : Type}

/-- The kernel's nineteen comparators: the greater value of each pair goes to the lower slot. -/
def Slots.sort (mx mn : α → α → α) (s : Slots α) : Slots α :=
  let s : Slots α := { s with a := mx s.a s.b, b := mn s.a s.b }
  let s : Slots α := { s with c := mx s.c s.d, d := mn s.c s.d }
  let s : Slots α := { s with e := mx s.e s.f, f := mn s.e s.f }
  let s : Slots α := { s with g := mx s.g s.h, h := mn s.g s.h }
  let s : Slots α := { s with a := mx s.a s.c, c := mn s.a s.c }
  let s : Slots α := { s with b := mx s.b s.d, d := mn s.b s.d }
  let s : Slots α := { s with e := mx s.e s.g, g := mn s.e s.g }
  let s : Slots α := { s with f := mx s.f s.h, h := mn s.f s.h }
  let s : Slots α := { s with b := mx s.b s.c, c := mn s.b s.c }
  let s : Slots α := { s with f := mx s.f s.g, g := mn s.f s.g }
  let s : Slots α := { s with a := mx s.a s.e, e := mn s.a s.e }
  let s : Slots α := { s with b := mx s.b s.f, f := mn s.b s.f }
  let s : Slots α := { s with c := mx s.c s.g, g := mn s.c s.g }
  let s : Slots α := { s with d := mx s.d s.h, h := mn s.d s.h }
  let s : Slots α := { s with c := mx s.c s.e, e := mn s.c s.e }
  let s : Slots α := { s with d := mx s.d s.f, f := mn s.d s.f }
  let s : Slots α := { s with b := mx s.b s.c, c := mn s.b s.c }
  let s : Slots α := { s with d := mx s.d s.e, e := mn s.d s.e }
  { s with f := mx s.f s.g, g := mn s.f s.g }

/-- One slot up: every slot takes, where `sel` says so, the next slot's value, the last one `low`. -/
def Slots.pop (sel : α → α → α) (low : α) (s : Slots α) : Slots α :=
  ⟨sel s.b s.a, sel s.c s.b, sel s.d s.c, sel s.e s.d, sel s.f s.e, sel s.g s.f, sel s.h s.g,
    sel low s.h⟩

/-- A function applied in every slot. -/
def Slots.map (φ : α → β) (s : Slots α) : Slots β :=
  ⟨φ s.a, φ s.b, φ s.c, φ s.d, φ s.e, φ s.f, φ s.g, φ s.h⟩

/-- Sorting commutes with a function that respects the two comparator outputs. -/
theorem Slots.map_sort (φ : α → β) {mx mn : α → α → α} {mx' mn' : β → β → β}
    (hx : ∀ a b, φ (mx a b) = mx' (φ a) (φ b)) (hn : ∀ a b, φ (mn a b) = mn' (φ a) (φ b))
    (s : Slots α) : (s.sort mx mn).map φ = (s.map φ).sort mx' mn' := by
  simp only [Slots.sort, Slots.map, hx, hn]

/-- Moving up commutes with a function that respects the choice. -/
theorem Slots.map_pop (φ : α → β) {sel : α → α → α} {sel' : β → β → β}
    (hs : ∀ a b, φ (sel a b) = sel' (φ a) (φ b)) (low : α) (s : Slots α) :
    (s.pop sel low).map φ = (s.map φ).pop sel' (φ low) := by
  simp only [Slots.pop, Slots.map, hs]

/-- Every slot satisfies `p`. -/
def Slots.All (p : α → Prop) (s : Slots α) : Prop :=
  p s.a ∧ p s.b ∧ p s.c ∧ p s.d ∧ p s.e ∧ p s.f ∧ p s.g ∧ p s.h

/-- The sum of eight numbers. -/
def Slots.sum (s : Slots ℕ) : ℕ := s.a + s.b + s.c + s.d + s.e + s.f + s.g + s.h

section order

variable [LinearOrder α]

/-- The slots descend. -/
def Slots.Desc (s : Slots α) : Prop :=
  s.b ≤ s.a ∧ s.c ≤ s.b ∧ s.d ≤ s.c ∧ s.e ≤ s.d ∧ s.f ≤ s.e ∧ s.g ≤ s.f ∧ s.h ≤ s.g

/-- How many slots hold at least `x`. -/
def Slots.cnt (s : Slots α) (x : α) : ℕ := (s.map fun v => if x ≤ v then 1 else 0).sum

/-- The comparators sort every string of bits, and keep the number of ones. -/
theorem sort_bits : ∀ a b c d e f g h : Bool,
    ((Slots.mk a b c d e f g h).sort or and).Desc ∧
    (((Slots.mk a b c d e f g h).sort or and).map fun v => if v then 1 else 0).sum
      = ((Slots.mk a b c d e f g h).map fun v => if v then 1 else 0).sum := by
  unfold Slots.Desc
  decide +kernel

/-- Whether a value reaches `x`, of the sorted slots: the bits sorted. -/
theorem reach_sort (s : Slots α) (x : α) :
    (s.sort max min).map (fun v => decide (x ≤ v))
      = (s.map fun v => decide (x ≤ v)).sort or and :=
  Slots.map_sort _ (fun a b => by simp [Bool.decide_or]) (fun a b => by simp [Bool.decide_and]) s

/-- A value below another, from every level the one reaches being reached by the other. -/
theorem le_of_bits {a b : α} (h : ∀ x, decide (x ≤ a) ≤ decide (x ≤ b)) : a ≤ b := by
  have := h a
  simpa [Bool.le_iff_imp] using this

/-- The comparators sort. -/
theorem desc_sort (s : Slots α) : (s.sort max min).Desc := by
  have key : ∀ x, ((s.sort max min).map (fun v => decide (x ≤ v))).Desc := fun x => by
    rw [reach_sort]
    exact (sort_bits _ _ _ _ _ _ _ _).1
  exact ⟨le_of_bits fun x => (key x).1, le_of_bits fun x => (key x).2.1,
    le_of_bits fun x => (key x).2.2.1, le_of_bits fun x => (key x).2.2.2.1,
    le_of_bits fun x => (key x).2.2.2.2.1, le_of_bits fun x => (key x).2.2.2.2.2.1,
    le_of_bits fun x => (key x).2.2.2.2.2.2⟩

/-- The comparators keep how many slots reach a level. -/
theorem cnt_sort (s : Slots α) (x : α) : (s.sort max min).cnt x = s.cnt x := by
  have h : ∀ t : Slots α, t.cnt x
      = ((t.map fun v => decide (x ≤ v)).map fun v => if v then 1 else 0).sum := fun t => by
    simp only [Slots.cnt, Slots.map, decide_eq_true_eq]
  rw [h, h, reach_sort]
  exact (sort_bits _ _ _ _ _ _ _ _).2

/-- The comparators keep a lower bound. -/
theorem low_sort (s : Slots α) (l : α) (hl : s.All (l ≤ ·)) : (s.sort max min).All (l ≤ ·) := by
  obtain ⟨h1, h2, h3, h4, h5, h6, h7, h8⟩ := hl
  refine ⟨?_, ?_, ?_, ?_, ?_, ?_, ?_, ?_⟩ <;>
    simp only [Slots.sort, le_min_iff, le_max_iff, h1, h2, h3, h4, h5, h6, h7, h8, or_self, and_self]

/-- A lane of which the first slot goes loses one above every level that slot reaches. -/
theorem cnt_pop_hit (s : Slots α) (low x : α) (hx : low < x) :
    (s.pop (fun n _ => n) low).cnt x + (if x ≤ s.a then 1 else 0) = s.cnt x := by
  have : ¬ x ≤ low := not_le.mpr hx
  change (Slots.mk s.b s.c s.d s.e s.f s.g s.h low).cnt x + _ = _
  simp only [Slots.cnt, Slots.map, Slots.sum, this, if_false]
  omega

/-- Every slot of a descending lane is at most the first. -/
theorem cnt_eq_zero (s : Slots α) (hs : s.Desc) (x : α) (hx : s.a < x) : s.cnt x = 0 := by
  obtain ⟨h1, h2, h3, h4, h5, h6, h7⟩ := hs
  have n1 := hx
  have n2 := h1.trans_lt n1
  have n3 := h2.trans_lt n2
  have n4 := h3.trans_lt n3
  have n5 := h4.trans_lt n4
  have n6 := h5.trans_lt n5
  have n7 := h6.trans_lt n6
  have n8 := h7.trans_lt n7
  simp only [Slots.cnt, Slots.map, Slots.sum, not_le.mpr n1, not_le.mpr n2, not_le.mpr n3,
    not_le.mpr n4, not_le.mpr n5, not_le.mpr n6, not_le.mpr n7, not_le.mpr n8, if_false]

/-- A lane whose first slot reaches a level counts there. -/
theorem cnt_pos (s : Slots α) (x : α) (hx : x ≤ s.a) : 1 ≤ s.cnt x := by
  simp only [Slots.cnt, Slots.map, Slots.sum, hx, if_true]
  omega

end order

/-! ## The rounds over 128 lanes -/

section rows

variable [LinearOrder α] {n : ℕ}

/-- A lane's state is proper: it descends and stays above the filler. -/
def Proper (low : α) (s : Slots α) : Prop := s.Desc ∧ s.All (low ≤ ·)

/-- One round at the greatest first slot `M`. -/
def pops (low M : α) (s : Fin n → Slots α) (l : Fin n) : Slots α :=
  (s l).pop (fun x y => if (s l).a = M then x else y) low

/-- How many slots of the row reach a level. -/
def total (s : Fin n → Slots α) (x : α) : ℕ := ∑ l, (s l).cnt x

/-- A round keeps lanes proper. -/
theorem proper_pops {low M : α} {s : Fin n → Slots α} (h : ∀ l, Proper low (s l)) (l : Fin n) :
    Proper low (pops low M s l) := by
  obtain ⟨⟨d1, d2, d3, d4, d5, d6, d7⟩, l1, l2, l3, l4, l5, l6, l7, l8⟩ := h l
  unfold pops Proper Slots.pop Slots.Desc Slots.All
  by_cases e : (s l).a = M
  · simp only [e, if_true]
    exact ⟨⟨d2, d3, d4, d5, d6, d7, l8⟩, l2, l3, l4, l5, l6, l7, l8, le_refl _⟩
  · simp only [e, if_false]
    exact ⟨⟨d1, d2, d3, d4, d5, d6, d7⟩, l1, l2, l3, l4, l5, l6, l7, l8⟩

/-- A round with one lane at the maximum takes one above every level the maximum reaches. -/
theorem total_pops {low M x : α} {s : Fin n → Slots α} (hx : low < x) (k : Fin n)
    (hk : (s k).a = M) (hu : ∀ l, (s l).a = M → l = k) :
    total (pops low M s) x + (if x ≤ M then 1 else 0) = total s x := by
  have e : ∀ l, (pops low M s l).cnt x + (if l = k then (if x ≤ M then 1 else 0) else 0)
      = (s l).cnt x := fun l => by
    by_cases h : (s l).a = M
    · have hl : l = k := hu l h
      subst hl
      have := cnt_pop_hit (s l) low x hx
      simp only [pops, h, if_true]
      rwa [h] at this
    · have hl : l ≠ k := fun c => h (c ▸ hk)
      simp only [pops, h, if_false, hl, add_zero]
      rfl
  have := Finset.sum_congr (rfl : (Finset.univ : Finset (Fin n)) = _) fun l _ => e l
  rw [Finset.sum_add_distrib, Finset.sum_ite_eq' Finset.univ k] at this
  simpa [total] using this

/-- Above the greatest first slot nothing counts. -/
theorem total_eq_zero {low M x : α} {s : Fin n → Slots α} (h : ∀ l, Proper low (s l))
    (hM : ∀ l, (s l).a ≤ M) (hx : M < x) : total s x = 0 :=
  Finset.sum_eq_zero fun l _ => cnt_eq_zero _ (h l).1 _ ((hM l).trans_lt hx)

/-- Two lanes that reach a level count twice. -/
theorem two_le_total {x : α} {s : Fin n → Slots α} {k l : Fin n} (hkl : k ≠ l)
    (hk : x ≤ (s k).a) (hl : x ≤ (s l).a) : 2 ≤ total s x := by
  have h1 := cnt_pos _ _ hk
  have h2 := cnt_pos _ _ hl
  have : ∑ i ∈ ({k, l} : Finset (Fin n)), (s i).cnt x ≤ total s x :=
    Finset.sum_le_sum_of_subset (Finset.subset_univ _)
  rw [Finset.sum_pair hkl] at this
  omega

/-- One lane that reaches a level counts. -/
theorem one_le_total {x : α} {s : Fin n → Slots α} {k : Fin n}
    (hk : x ≤ (s k).a) : 1 ≤ total s x :=
  (cnt_pos _ _ hk).trans (Finset.single_le_sum (f := fun l => (s l).cnt x)
    (fun _ _ => Nat.zero_le _) (Finset.mem_univ k))

/-- The states after the rounds, each at the greatest first slot `top` finds. -/
def after (low : α) (top : (Fin n → Slots α) → α) (s : Fin n → Slots α) : ℕ → Fin n → Slots α
  | 0 => s
  | t + 1 => pops low (top (after low top s t)) (after low top s t)

variable {low base : α} {top : (Fin n → Slots α) → α} {s : Fin n → Slots α}

/-- After any number of rounds the lanes are proper. -/
theorem proper_after (h : ∀ l, Proper low (s l)) (t : ℕ) (l : Fin n) :
    Proper low (after low top s t l) := by
  induction t generalizing l with
  | zero => exact h l
  | succ t ih => exact proper_pops ih l

/-- Without ties among the greatest, `t` rounds take `t` from every count. -/
theorem total_after (hlb : low < base) (h : ∀ l, Proper low (s l))
    (htop : ∀ s : Fin n → Slots α, (∀ l, (s l).a ≤ top s) ∧ ∃ k, (s k).a = top s)
    (hb : 20 ≤ total s base)
    (nt : ∀ t ≤ 18, ∀ x, t + 2 ≤ total s x → ∃ y, x < y ∧ t + 1 ≤ total s y) :
    ∀ t ≤ 19, ∀ x, low < x → total (after low top s t) x = total s x - t := by
  intro t
  induction t with
  | zero => intro _ x _; rfl
  | succ t ih =>
    intro ht x hx
    have ih := ih (by omega)
    obtain ⟨hM, k, hk⟩ := htop (after low top s t)
    have hp := proper_after (top := top) h t
    have hlow : low < top (after low top s t) := by
      by_contra hc
      have h0 := total_eq_zero hp hM ((not_lt.mp hc).trans_lt hlb)
      rw [ih base hlb] at h0
      omega
    have hu : ∀ l, (after low top s t l).a = top (after low top s t) → l = k := by
      intro l hl
      by_contra hne
      have h2 := two_le_total hne hl.ge hk.ge
      rw [ih _ hlow] at h2
      obtain ⟨y, hy, hc⟩ := nt t (by omega) (top (after low top s t)) (by omega)
      have h0 := total_eq_zero hp hM hy
      rw [ih y (hlow.trans hy)] at h0
      omega
    have e := total_pops hx k hk hu
    rw [ih x hx] at e
    by_cases c : x ≤ top (after low top s t)
    · simp only [c, if_true] at e
      show total (pops low _ _) x = _
      omega
    · have h0 := total_eq_zero hp hM (not_le.mp c)
      rw [ih x hx] at h0
      simp only [c, if_false] at e
      show total (pops low _ _) x = _
      omega

/-- The threshold after nineteen rounds is the value in place nineteen of the descending order, so an
    entry reaches it exactly when it stands in one of the first twenty places. -/
theorem thr_le_iff {m : ℕ} (hm : 20 < m) (v : Fin m → α) (p : Fin m → Fin m)
    (hinj : Function.Injective p) (hsur : Function.Surjective p)
    (anti : ∀ i j, i < j → v (p j) ≤ v (p i))
    (strict : ∀ i j : Fin m, i < j → j.val ≤ 20 → v (p j) < v (p i))
    (hlb : low < base) (hbase : ∀ i, base ≤ v i)
    (h : ∀ l, Proper low (s l))
    (htop : ∀ s : Fin n → Slots α, (∀ l, (s l).a ≤ top s) ∧ ∃ k, (s k).a = top s)
    (hcnt : ∀ x, total s x = (Finset.univ.filter fun i => x ≤ v i).card) (i : Fin m) :
    top (after low top s 19) ≤ v i ↔ ∃ k : Fin m, k.val < 20 ∧ p k = i := by
  have anti' : ∀ i j, i ≤ j → v (p j) ≤ v (p i) := fun i j hij => by
    rcases hij.lt_or_eq with h | h
    · exact anti _ _ h
    · rw [h]
  have card : ∀ x, (Finset.univ.filter fun i => x ≤ v i).card
      = (Finset.univ.filter fun k => x ≤ v (p k)).card := fun x => by
    symm
    apply Finset.card_bij (fun k _ => p k)
    · intro k hk; simpa using hk
    · intro a _ b _ hab; exact hinj hab
    · intro b hb
      obtain ⟨k, rfl⟩ := hsur b
      exact ⟨k, by simpa using hb, rfl⟩
  have place : ∀ (k : Fin m) (x : α), k.val + 1 ≤ total s x ↔ x ≤ v (p k) := fun k x => by
    rw [hcnt, card]
    constructor
    · intro hk
      by_contra hc
      have hsub : (Finset.univ.filter fun j => x ≤ v (p j)) ⊆ Finset.univ.filter fun j => j < k := by
        intro j hj
        simp only [Finset.mem_filter, Finset.mem_univ, true_and] at hj ⊢
        by_contra hjk
        exact hc (hj.trans (anti' _ _ (not_lt.mp hjk)))
      have := Finset.card_le_card hsub
      rw [show (Finset.univ.filter fun j => j < k) = Finset.Iio k by ext; simp, Fin.card_Iio] at this
      omega
    · intro hx
      have hsub : (Finset.univ.filter fun j => j ≤ k) ⊆ Finset.univ.filter fun j => x ≤ v (p j) := by
        intro j hj
        simp only [Finset.mem_filter, Finset.mem_univ, true_and] at hj ⊢
        exact hx.trans (anti' _ _ hj)
      have := Finset.card_le_card hsub
      rw [show (Finset.univ.filter fun j => j ≤ k) = Finset.Iic k by ext; simp, Fin.card_Iic] at this
      omega
  have hb : 20 ≤ total s base := by
    have := (place ⟨19, by omega⟩ base).mpr (hbase _)
    simpa using this
  have nt : ∀ t ≤ 18, ∀ x, t + 2 ≤ total s x → ∃ y, x < y ∧ t + 1 ≤ total s y := by
    intro t ht x hx
    have h1 := (place ⟨t + 1, by omega⟩ x).mp hx
    refine ⟨v (p ⟨t, by omega⟩), h1.trans_lt (strict _ _ ?_ ?_), (place ⟨t, by omega⟩ _).mpr le_rfl⟩
    · exact Fin.mk_lt_mk.mpr (Nat.lt_succ_self t)
    · show t + 1 ≤ 20; omega
  have key := total_after (low := low) (top := top) hlb h htop hb nt 19 le_rfl
  obtain ⟨hM, k, hk⟩ := htop (after low top s 19)
  have hp := proper_after (top := top) h 19
  have hlow : low < top (after low top s 19) := by
    by_contra hc
    have h0 := total_eq_zero hp hM ((not_lt.mp hc).trans_lt hlb)
    rw [key base hlb] at h0
    omega
  have eq : top (after low top s 19) = v (p ⟨19, by omega⟩) := by
    apply le_antisymm
    · rw [← place]
      have := one_le_total hk.ge
      rw [key _ hlow] at this
      show 19 + 1 ≤ _
      omega
    · by_contra hc
      have h0 := total_eq_zero hp hM (not_le.mp hc)
      rw [key _ (hlow.trans (not_le.mp hc))] at h0
      have := (place ⟨19, by omega⟩ _).mpr (le_refl (v (p ⟨19, by omega⟩)))
      simp only at this
      omega
  rw [eq]
  obtain ⟨j, rfl⟩ := hsur i
  constructor
  · intro hj
    refine ⟨j, ?_, rfl⟩
    by_contra hc
    have h1 : v (p j) ≤ v (p ⟨20, hm⟩) := anti' _ _ (by show 20 ≤ j.val; omega)
    have h2 : v (p ⟨20, hm⟩) < v (p ⟨19, by omega⟩) :=
      strict _ _ (Fin.mk_lt_mk.mpr (by omega)) le_rfl
    exact absurd hj (not_le.mpr (h1.trans_lt h2))
  · rintro ⟨k, hk, hkj⟩
    rw [hinj hkj] at hk
    exact anti' _ _ (by show j.val ≤ 19; omega)

end rows

end Cert.Slots
-- ==== Proof.Chunk.lean ====
module

public import proofs.«01_k».proof.Proof.Gen.KernelIdeal.Frame
public import proofs.«01_k».proof.Proof.Slots

@[expose] public section

set_option maxRecDepth 16384
set_option maxHeartbeats 2000000

noncomputable section

/-! What the kernel does to one group of 64 rows, as a sort of eight slots and nineteen rounds of moving them up. -/

namespace Cert.KernelIdeal.Gen

open Idealize.ShloMosaic Idealize.SL.Sem Cert.Slots

variable {F : FTy → Type} [FloatOps F]

/-- The greatest value of every row of one slot's vector. -/
def rowMax (a : FVec F S64x128 .f32) : FVec F S64x1 .f32 :=
  shapeCast S64x1 (multiReduction .maximumf [1] S64 a 0xFF800000#32 reduces_S64x128_S64 (.inl rfl) rfl)
    shapeCasts_S64_S64x1

/-- The lanes whose first slot holds the row's greatest value. -/
def hits (a : FVec F S64x128 .f32) : IVec S64x128 1 :=
  cmpf .oeq a (broadcastTo S64x128 (rowMax a) broadcasts_S64x1_S64x128)

/-- The value that fills an emptied last slot. -/
def low : FVec F S64x128 .f32 := broadcast S64x128 (Scalar.ofBits .f32 0xBF800000#32)

/-- One round: in the lanes that hold the row's greatest value, every slot moves up. -/
def round (s : Slots (FVec F S64x128 .f32)) : Slots (FVec F S64x128 .f32) :=
  s.pop (select (hits s.a)) low

/-- The slots after `n` rounds. -/
def rounds (s : Slots (FVec F S64x128 .f32)) : ℕ → Slots (FVec F S64x128 .f32)
  | 0 => s
  | n + 1 => round (rounds s n)

/-- Rounds add up. -/
theorem rounds_rounds (s : Slots (FVec F S64x128 .f32)) (m n : ℕ) :
    rounds (rounds s m) n = rounds s (m + n) := by
  induction n with
  | zero => rfl
  | succ n ih => exact congrArg round ih

/-- The row threshold of 64 rows: the greatest first slot after nineteen rounds on the sorted slots. -/
def chunkThr (s : Slots (FVec F S64x128 .f32)) : FVec F S64x1 .f32 :=
  rowMax (rounds (s.sort maximumf minimumf) 19).a

/-- The eight lane blocks of 64 rows from row `st`. -/
def cut (v : FVec F S256x1024 .f32) (st : ℕ)
    (h : ∀ j : Fin 8, S256x1024.Slices ![st, 128 * j] S64x128) : Slots (FVec F S64x128 .f32) :=
  ⟨extractStridedSlice S64x128 ![st, 0] v (h 0), extractStridedSlice S64x128 ![st, 128] v (h 1),
   extractStridedSlice S64x128 ![st, 256] v (h 2), extractStridedSlice S64x128 ![st, 384] v (h 3),
   extractStridedSlice S64x128 ![st, 512] v (h 4), extractStridedSlice S64x128 ![st, 640] v (h 5),
   extractStridedSlice S64x128 ![st, 768] v (h 6), extractStridedSlice S64x128 ![st, 896] v (h 7)⟩

/-- The entries of a 256-row block that reach the thresholds of the block's four groups of rows. -/
def maskOf (v : FVec F S256x1024 .f32) (t0 t1 t2 t3 : FVec F S64x1 .f32) : IVec S256x1024 1 :=
  cmpf .oge v (broadcastTo S256x1024 (concatenate S256x1 0
    [⟨S64x1, t0⟩, ⟨S64x1, t1⟩, ⟨S64x1, t2⟩, ⟨S64x1, t3⟩]
    concatenates_S64x1_S64x1_S64x1_S64x1_S256x1_d0) broadcasts_S256x1_S256x1024)

/-- A state in the middle of a round: three slots are moved, five wait. -/
def midThree (hit : IVec S64x128 1) (a b c d e f g h : FVec F S64x128 .f32) :
    Slots (FVec F S64x128 .f32) :=
  ⟨a, b, c, select hit e d, select hit f e, select hit g f, select hit h g, select hit low h⟩

/-- A state in the middle of a round: four slots are moved, four wait. -/
def midFour (hit : IVec S64x128 1) (a b c d e f g h : FVec F S64x128 .f32) :
    Slots (FVec F S64x128 .f32) :=
  ⟨a, b, c, d, select hit f e, select hit g f, select hit h g, select hit low h⟩

/-- The slots of row group 0 after 3 rounds, as the kernel holds them. -/
def state0_3 (x0 : Vec F S1x30x256 .f32) (x1 : Vec F S1x30x1024 .f32) (x2 : Vec F S1x256x1024 .i8) : Slots (FVec F S64x128 .f32) :=
  ⟨k1_pay717 x0 x1 x2, k1_pay718 x0 x1 x2, k1_pay719 x0 x1 x2, k1_pay720 x0 x1 x2, k1_pay721 x0 x1 x2, k1_pay722 x0 x1 x2, k1_pay723 x0 x1 x2, k1_pay724 x0 x1 x2⟩

/-- They are 3 rounds on the sorted slots. -/
theorem state0_3_eq (x0 : Vec F S1x30x256 .f32) (x1 : Vec F S1x30x1024 .f32) (x2 : Vec F S1x256x1024 .i8) (h : ∀ j : Fin 8, S256x1024.Slices ![0, 128 * j] S64x128) :
    state0_3 x0 x1 x2 = rounds ((cut (k1_pay707 x0 x1 x2) 0 h).sort maximumf minimumf) 3 := rfl

/-- The slots of row group 0 after 7 rounds, as the kernel holds them. -/
def state0_7 (x0 : Vec F S1x30x256 .f32) (x1 : Vec F S1x30x1024 .f32) (x2 : Vec F S1x256x1024 .i8) : Slots (FVec F S64x128 .f32) :=
  ⟨k1_pay725 x0 x1 x2, k1_pay726 x0 x1 x2, k1_pay727 x0 x1 x2, k1_pay728 x0 x1 x2, k1_pay729 x0 x1 x2, k1_pay730 x0 x1 x2, k1_pay731 x0 x1 x2, k1_pay732 x0 x1 x2⟩

/-- They are 4 rounds on the state before. -/
theorem state0_7_step (x0 : Vec F S1x30x256 .f32) (x1 : Vec F S1x30x1024 .f32) (x2 : Vec F S1x256x1024 .i8) :
    state0_7 x0 x1 x2 = rounds (state0_3 x0 x1 x2) 4 := rfl

/-- The slots of row group 0 after 11 rounds, as the kernel holds them. -/
def state0_11 (x0 : Vec F S1x30x256 .f32) (x1 : Vec F S1x30x1024 .f32) (x2 : Vec F S1x256x1024 .i8) : Slots (FVec F S64x128 .f32) :=
  ⟨k1_pay733 x0 x1 x2, k1_pay734 x0 x1 x2, k1_pay735 x0 x1 x2, k1_pay736 x0 x1 x2, k1_pay737 x0 x1 x2, k1_pay738 x0 x1 x2, k1_pay739 x0 x1 x2, k1_pay740 x0 x1 x2⟩

/-- They are 4 rounds on the state before. -/
theorem state0_11_step (x0 : Vec F S1x30x256 .f32) (x1 : Vec F S1x30x1024 .f32) (x2 : Vec F S1x256x1024 .i8) :
    state0_11 x0 x1 x2 = rounds (state0_7 x0 x1 x2) 4 := rfl

/-- The threshold of row group 0 from its last held state. -/
theorem thr0_step (x0 : Vec F S1x30x256 .f32) (x1 : Vec F S1x30x1024 .f32) (x2 : Vec F S1x256x1024 .i8) :
    (k1_pay181 (k1_pay176 (k1_pay733 x0 x1 x2) (k1_pay734 x0 x1 x2) (k1_pay735 x0 x1 x2) (k1_pay736 x0 x1 x2) (k1_pay737 x0 x1 x2) (k1_pay738 x0 x1 x2)) (k1_pay177 (k1_pay733 x0 x1 x2) (k1_pay734 x0 x1 x2) (k1_pay735 x0 x1 x2) (k1_pay736 x0 x1 x2) (k1_pay737 x0 x1 x2) (k1_pay738 x0 x1 x2) (k1_pay739 x0 x1 x2)) (k1_pay178 (k1_pay733 x0 x1 x2) (k1_pay734 x0 x1 x2) (k1_pay735 x0 x1 x2) (k1_pay736 x0 x1 x2) (k1_pay737 x0 x1 x2) (k1_pay738 x0 x1 x2) (k1_pay739 x0 x1 x2) (k1_pay740 x0 x1 x2)) (k1_pay179 (k1_pay733 x0 x1 x2) (k1_pay734 x0 x1 x2) (k1_pay735 x0 x1 x2) (k1_pay736 x0 x1 x2) (k1_pay737 x0 x1 x2) (k1_pay738 x0 x1 x2) (k1_pay739 x0 x1 x2) (k1_pay740 x0 x1 x2)) (k1_pay180 (k1_pay733 x0 x1 x2) (k1_pay734 x0 x1 x2) (k1_pay735 x0 x1 x2) (k1_pay736 x0 x1 x2) (k1_pay737 x0 x1 x2) (k1_pay738 x0 x1 x2))) = rowMax (rounds (state0_11 x0 x1 x2) 8).a := rfl

/-- The slots of row group 1 after 4 rounds, as the kernel holds them. -/
def state1_4 (x0 : Vec F S1x30x256 .f32) (x1 : Vec F S1x30x1024 .f32) (x2 : Vec F S1x256x1024 .i8) : Slots (FVec F S64x128 .f32) :=
  midThree (k1_pay755 x0 x1 x2) (k1_pay756 x0 x1 x2) (k1_pay757 x0 x1 x2) (k1_pay758 x0 x1 x2) (k1_pay750 x0 x1 x2) (k1_pay751 x0 x1 x2) (k1_pay752 x0 x1 x2) (k1_pay753 x0 x1 x2) (k1_pay754 x0 x1 x2)

/-- They are 4 rounds on the sorted slots. -/
theorem state1_4_eq (x0 : Vec F S1x30x256 .f32) (x1 : Vec F S1x30x1024 .f32) (x2 : Vec F S1x256x1024 .i8) (h : ∀ j : Fin 8, S256x1024.Slices ![64, 128 * j] S64x128) :
    state1_4 x0 x1 x2 = rounds ((cut (k1_pay707 x0 x1 x2) 64 h).sort maximumf minimumf) 4 := rfl

/-- The slots of row group 1 after 8 rounds, as the kernel holds them. -/
def state1_8 (x0 : Vec F S1x30x256 .f32) (x1 : Vec F S1x30x1024 .f32) (x2 : Vec F S1x256x1024 .i8) : Slots (FVec F S64x128 .f32) :=
  midThree (k1_pay764 x0 x1 x2) (k1_pay765 x0 x1 x2) (k1_pay766 x0 x1 x2) (k1_pay767 x0 x1 x2) (k1_pay759 x0 x1 x2) (k1_pay760 x0 x1 x2) (k1_pay761 x0 x1 x2) (k1_pay762 x0 x1 x2) (k1_pay763 x0 x1 x2)

/-- They are 4 rounds on the state before. -/
theorem state1_8_step (x0 : Vec F S1x30x256 .f32) (x1 : Vec F S1x30x1024 .f32) (x2 : Vec F S1x256x1024 .i8) :
    state1_8 x0 x1 x2 = rounds (state1_4 x0 x1 x2) 4 := rfl

/-- The slots of row group 1 after 12 rounds, as the kernel holds them. -/
def state1_12 (x0 : Vec F S1x30x256 .f32) (x1 : Vec F S1x30x1024 .f32) (x2 : Vec F S1x256x1024 .i8) : Slots (FVec F S64x128 .f32) :=
  midThree (k1_pay773 x0 x1 x2) (k1_pay774 x0 x1 x2) (k1_pay775 x0 x1 x2) (k1_pay776 x0 x1 x2) (k1_pay768 x0 x1 x2) (k1_pay769 x0 x1 x2) (k1_pay770 x0 x1 x2) (k1_pay771 x0 x1 x2) (k1_pay772 x0 x1 x2)

/-- They are 4 rounds on the state before. -/
theorem state1_12_step (x0 : Vec F S1x30x256 .f32) (x1 : Vec F S1x30x1024 .f32) (x2 : Vec F S1x256x1024 .i8) :
    state1_12 x0 x1 x2 = rounds (state1_8 x0 x1 x2) 4 := rfl

/-- The threshold of row group 1 from its last held state. -/
theorem thr1_step (x0 : Vec F S1x30x256 .f32) (x1 : Vec F S1x30x1024 .f32) (x2 : Vec F S1x256x1024 .i8) :
    (k1_pay362 (k1_pay358 (k1_pay768 x0 x1 x2) (k1_pay769 x0 x1 x2) (k1_pay770 x0 x1 x2) (k1_pay771 x0 x1 x2) (k1_pay773 x0 x1 x2) (k1_pay774 x0 x1 x2) (k1_pay775 x0 x1 x2) (k1_pay776 x0 x1 x2)) (k1_pay359 (k1_pay768 x0 x1 x2) (k1_pay769 x0 x1 x2) (k1_pay770 x0 x1 x2) (k1_pay771 x0 x1 x2) (k1_pay772 x0 x1 x2) (k1_pay773 x0 x1 x2) (k1_pay774 x0 x1 x2) (k1_pay775 x0 x1 x2) (k1_pay776 x0 x1 x2)) (k1_pay360 (k1_pay768 x0 x1 x2) (k1_pay769 x0 x1 x2) (k1_pay770 x0 x1 x2) (k1_pay771 x0 x1 x2) (k1_pay772 x0 x1 x2) (k1_pay773 x0 x1 x2) (k1_pay774 x0 x1 x2) (k1_pay775 x0 x1 x2) (k1_pay776 x0 x1 x2)) (k1_pay361 (k1_pay768 x0 x1 x2) (k1_pay769 x0 x1 x2) (k1_pay770 x0 x1 x2) (k1_pay771 x0 x1 x2) (k1_pay773 x0 x1 x2) (k1_pay774 x0 x1 x2) (k1_pay775 x0 x1 x2) (k1_pay776 x0 x1 x2))) = rowMax (rounds (state1_12 x0 x1 x2) 7).a := rfl

/-- The slots of row group 2 after 4 rounds, as the kernel holds them. -/
def state2_4 (x0 : Vec F S1x30x256 .f32) (x1 : Vec F S1x30x1024 .f32) (x2 : Vec F S1x256x1024 .i8) : Slots (FVec F S64x128 .f32) :=
  ⟨k1_pay785 x0 x1 x2, k1_pay786 x0 x1 x2, k1_pay787 x0 x1 x2, k1_pay788 x0 x1 x2, k1_pay789 x0 x1 x2, k1_pay790 x0 x1 x2, k1_pay791 x0 x1 x2, k1_pay792 x0 x1 x2⟩

/-- They are 4 rounds on the sorted slots. -/
theorem state2_4_eq (x0 : Vec F S1x30x256 .f32) (x1 : Vec F S1x30x1024 .f32) (x2 : Vec F S1x256x1024 .i8) (h : ∀ j : Fin 8, S256x1024.Slices ![128, 128 * j] S64x128) :
    state2_4 x0 x1 x2 = rounds ((cut (k1_pay707 x0 x1 x2) 128 h).sort maximumf minimumf) 4 := rfl

/-- The slots of row group 2 after 8 rounds, as the kernel holds them. -/
def state2_8 (x0 : Vec F S1x30x256 .f32) (x1 : Vec F S1x30x1024 .f32) (x2 : Vec F S1x256x1024 .i8) : Slots (FVec F S64x128 .f32) :=
  ⟨k1_pay793 x0 x1 x2, k1_pay794 x0 x1 x2, k1_pay795 x0 x1 x2, k1_pay796 x0 x1 x2, k1_pay797 x0 x1 x2, k1_pay798 x0 x1 x2, k1_pay799 x0 x1 x2, k1_pay800 x0 x1 x2⟩

/-- They are 4 rounds on the state before. -/
theorem state2_8_step (x0 : Vec F S1x30x256 .f32) (x1 : Vec F S1x30x1024 .f32) (x2 : Vec F S1x256x1024 .i8) :
    state2_8 x0 x1 x2 = rounds (state2_4 x0 x1 x2) 4 := rfl

/-- The slots of row group 2 after 12 rounds, as the kernel holds them. -/
def state2_12 (x0 : Vec F S1x30x256 .f32) (x1 : Vec F S1x30x1024 .f32) (x2 : Vec F S1x256x1024 .i8) : Slots (FVec F S64x128 .f32) :=
  ⟨k1_pay801 x0 x1 x2, k1_pay802 x0 x1 x2, k1_pay803 x0 x1 x2, k1_pay804 x0 x1 x2, k1_pay805 x0 x1 x2, k1_pay806 x0 x1 x2, k1_pay807 x0 x1 x2, k1_pay516 (k1_pay793 x0 x1 x2) (k1_pay794 x0 x1 x2) (k1_pay795 x0 x1 x2) (k1_pay796 x0 x1 x2) (k1_pay800 x0 x1 x2)⟩

/-- They are 4 rounds on the state before. -/
theorem state2_12_step (x0 : Vec F S1x30x256 .f32) (x1 : Vec F S1x30x1024 .f32) (x2 : Vec F S1x256x1024 .i8) :
    state2_12 x0 x1 x2 = rounds (state2_8 x0 x1 x2) 4 := rfl

/-- The threshold of row group 2 from its last held state. -/
theorem thr2_step (x0 : Vec F S1x30x256 .f32) (x1 : Vec F S1x30x1024 .f32) (x2 : Vec F S1x256x1024 .i8) :
    (k1_pay546 (k1_pay543 (k1_pay801 x0 x1 x2) (k1_pay802 x0 x1 x2) (k1_pay803 x0 x1 x2) (k1_pay804 x0 x1 x2) (k1_pay805 x0 x1 x2) (k1_pay806 x0 x1 x2) (k1_pay807 x0 x1 x2)) (k1_pay544 (k1_pay801 x0 x1 x2) (k1_pay802 x0 x1 x2) (k1_pay803 x0 x1 x2) (k1_pay804 x0 x1 x2) (k1_pay805 x0 x1 x2) (k1_pay806 x0 x1 x2) (k1_pay807 x0 x1 x2) (k1_pay516 (k1_pay793 x0 x1 x2) (k1_pay794 x0 x1 x2) (k1_pay795 x0 x1 x2) (k1_pay796 x0 x1 x2) (k1_pay800 x0 x1 x2))) (k1_pay545 (k1_pay801 x0 x1 x2) (k1_pay802 x0 x1 x2) (k1_pay803 x0 x1 x2) (k1_pay804 x0 x1 x2) (k1_pay805 x0 x1 x2) (k1_pay806 x0 x1 x2) (k1_pay807 x0 x1 x2))) = rowMax (rounds (state2_12 x0 x1 x2) 7).a := rfl

/-- The slots of row group 3 after 1 round, as the kernel holds them. -/
def state3_1 (x0 : Vec F S1x30x256 .f32) (x1 : Vec F S1x30x1024 .f32) (x2 : Vec F S1x256x1024 .i8) : Slots (FVec F S64x128 .f32) :=
  midFour (k1_pay812 x0 x1 x2) (k1_pay813 x0 x1 x2) (k1_pay814 x0 x1 x2) (k1_pay815 x0 x1 x2) (k1_pay816 x0 x1 x2) (k1_pay809 x0 x1 x2) (k1_pay810 x0 x1 x2) (k1_pay811 x0 x1 x2) (k1_pay808 x0 x1 x2)

/-- They are 1 round on the sorted slots. -/
theorem state3_1_eq (x0 : Vec F S1x30x256 .f32) (x1 : Vec F S1x30x1024 .f32) (x2 : Vec F S1x256x1024 .i8) (h : ∀ j : Fin 8, S256x1024.Slices ![192, 128 * j] S64x128) :
    state3_1 x0 x1 x2 = rounds ((cut (k1_pay707 x0 x1 x2) 192 h).sort maximumf minimumf) 1 := rfl

/-- The slots of row group 3 after 5 rounds, as the kernel holds them. -/
def state3_5 (x0 : Vec F S1x30x256 .f32) (x1 : Vec F S1x30x1024 .f32) (x2 : Vec F S1x256x1024 .i8) : Slots (FVec F S64x128 .f32) :=
  midFour (k1_pay821 x0 x1 x2) (k1_pay822 x0 x1 x2) (k1_pay823 x0 x1 x2) (k1_pay824 x0 x1 x2) (k1_pay825 x0 x1 x2) (k1_pay817 x0 x1 x2) (k1_pay818 x0 x1 x2) (k1_pay819 x0 x1 x2) (k1_pay820 x0 x1 x2)

/-- They are 4 rounds on the state before. -/
theorem state3_5_step (x0 : Vec F S1x30x256 .f32) (x1 : Vec F S1x30x1024 .f32) (x2 : Vec F S1x256x1024 .i8) :
    state3_5 x0 x1 x2 = rounds (state3_1 x0 x1 x2) 4 := rfl

/-- The slots of row group 3 after 9 rounds, as the kernel holds them. -/
def state3_9 (x0 : Vec F S1x30x256 .f32) (x1 : Vec F S1x30x1024 .f32) (x2 : Vec F S1x256x1024 .i8) : Slots (FVec F S64x128 .f32) :=
  midFour (k1_pay830 x0 x1 x2) (k1_pay831 x0 x1 x2) (k1_pay832 x0 x1 x2) (k1_pay833 x0 x1 x2) (k1_pay834 x0 x1 x2) (k1_pay826 x0 x1 x2) (k1_pay827 x0 x1 x2) (k1_pay828 x0 x1 x2) (k1_pay829 x0 x1 x2)

/-- They are 4 rounds on the state before. -/
theorem state3_9_step (x0 : Vec F S1x30x256 .f32) (x1 : Vec F S1x30x1024 .f32) (x2 : Vec F S1x256x1024 .i8) :
    state3_9 x0 x1 x2 = rounds (state3_5 x0 x1 x2) 4 := rfl

/-- The slots of row group 3 after 13 rounds, as the kernel holds them. -/
def state3_13 (x0 : Vec F S1x30x256 .f32) (x1 : Vec F S1x30x1024 .f32) (x2 : Vec F S1x256x1024 .i8) : Slots (FVec F S64x128 .f32) :=
  midFour (k1_pay701 (k1_pay831 x0 x1 x2) (k1_pay832 x0 x1 x2) (k1_pay833 x0 x1 x2) (k1_pay834 x0 x1 x2)) (k1_pay702 (k1_pay826 x0 x1 x2) (k1_pay827 x0 x1 x2) (k1_pay830 x0 x1 x2) (k1_pay831 x0 x1 x2) (k1_pay832 x0 x1 x2) (k1_pay833 x0 x1 x2) (k1_pay834 x0 x1 x2)) (k1_pay703 (k1_pay826 x0 x1 x2) (k1_pay827 x0 x1 x2) (k1_pay828 x0 x1 x2) (k1_pay830 x0 x1 x2) (k1_pay831 x0 x1 x2) (k1_pay832 x0 x1 x2) (k1_pay833 x0 x1 x2) (k1_pay834 x0 x1 x2)) (k1_pay704 (k1_pay826 x0 x1 x2) (k1_pay827 x0 x1 x2) (k1_pay828 x0 x1 x2) (k1_pay829 x0 x1 x2) (k1_pay830 x0 x1 x2) (k1_pay831 x0 x1 x2) (k1_pay832 x0 x1 x2) (k1_pay833 x0 x1 x2) (k1_pay834 x0 x1 x2)) (k1_pay705 (k1_pay826 x0 x1 x2) (k1_pay827 x0 x1 x2) (k1_pay828 x0 x1 x2) (k1_pay829 x0 x1 x2) (k1_pay830 x0 x1 x2) (k1_pay831 x0 x1 x2) (k1_pay832 x0 x1 x2) (k1_pay833 x0 x1 x2) (k1_pay834 x0 x1 x2)) (k1_pay697 (k1_pay826 x0 x1 x2) (k1_pay827 x0 x1 x2) (k1_pay828 x0 x1 x2) (k1_pay829 x0 x1 x2) (k1_pay830 x0 x1 x2) (k1_pay831 x0 x1 x2) (k1_pay832 x0 x1 x2) (k1_pay833 x0 x1 x2)) (k1_pay698 (k1_pay827 x0 x1 x2) (k1_pay828 x0 x1 x2) (k1_pay829 x0 x1 x2) (k1_pay830 x0 x1 x2) (k1_pay831 x0 x1 x2) (k1_pay832 x0 x1 x2) (k1_pay833 x0 x1 x2)) (k1_pay699 (k1_pay828 x0 x1 x2) (k1_pay829 x0 x1 x2) (k1_pay830 x0 x1 x2) (k1_pay831 x0 x1 x2) (k1_pay832 x0 x1 x2) (k1_pay833 x0 x1 x2)) (k1_pay700 (k1_pay829 x0 x1 x2) (k1_pay830 x0 x1 x2) (k1_pay831 x0 x1 x2) (k1_pay832 x0 x1 x2) (k1_pay833 x0 x1 x2))

/-- They are 4 rounds on the state before. -/
theorem state3_13_step (x0 : Vec F S1x30x256 .f32) (x1 : Vec F S1x30x1024 .f32) (x2 : Vec F S1x256x1024 .i8) :
    state3_13 x0 x1 x2 = rounds (state3_9 x0 x1 x2) 4 := rfl

end Cert.KernelIdeal.Gen
end
-- ==== Proof.Thresholds.lean ====
module

public import proofs.«01_k».proof.Proof.Chunk

@[expose] public section

set_option maxRecDepth 16384
set_option maxHeartbeats 2000000

noncomputable section

/-! The second kernel's printed values, each group's threshold as its slots give it. -/

namespace Cert.KernelIdeal.Gen

open Idealize.ShloMosaic Idealize.SL.Sem Cert.Slots

variable {F : FTy → Type} [FloatOps F]

/-- The kernel's last part: the fourth threshold from its last state, then the mask. -/
theorem pay706_eq (v : FVec F S256x1024 .f32) (t0 t1 t2 : FVec F S64x1 .f32)
    (e f g h : FVec F S64x128 .f32) (hit : IVec S64x128 1) (a b c d : FVec F S64x128 .f32) :
    k1_pay706 v t0 t1 t2 e f g h hit a b c d
      = maskOf v t0 t1 t2 (rowMax (rounds (midFour hit a b c d e f g h) 6).a) := rfl

/-- The threshold of row group 0. -/
theorem thr0_eq (x0 : Vec F S1x30x256 .f32) (x1 : Vec F S1x30x1024 .f32) (x2 : Vec F S1x256x1024 .i8)
    (h0 : ∀ j : Fin 8, S256x1024.Slices ![0, 128 * j] S64x128) :
    k1_pay181 (k1_pay176 (k1_pay733 x0 x1 x2) (k1_pay734 x0 x1 x2) (k1_pay735 x0 x1 x2) (k1_pay736 x0 x1 x2) (k1_pay737 x0 x1 x2) (k1_pay738 x0 x1 x2)) (k1_pay177 (k1_pay733 x0 x1 x2) (k1_pay734 x0 x1 x2) (k1_pay735 x0 x1 x2) (k1_pay736 x0 x1 x2) (k1_pay737 x0 x1 x2) (k1_pay738 x0 x1 x2) (k1_pay739 x0 x1 x2)) (k1_pay178 (k1_pay733 x0 x1 x2) (k1_pay734 x0 x1 x2) (k1_pay735 x0 x1 x2) (k1_pay736 x0 x1 x2) (k1_pay737 x0 x1 x2) (k1_pay738 x0 x1 x2) (k1_pay739 x0 x1 x2) (k1_pay740 x0 x1 x2)) (k1_pay179 (k1_pay733 x0 x1 x2) (k1_pay734 x0 x1 x2) (k1_pay735 x0 x1 x2) (k1_pay736 x0 x1 x2) (k1_pay737 x0 x1 x2) (k1_pay738 x0 x1 x2) (k1_pay739 x0 x1 x2) (k1_pay740 x0 x1 x2)) (k1_pay180 (k1_pay733 x0 x1 x2) (k1_pay734 x0 x1 x2) (k1_pay735 x0 x1 x2) (k1_pay736 x0 x1 x2) (k1_pay737 x0 x1 x2) (k1_pay738 x0 x1 x2))
      = chunkThr (cut (k1_pay707 x0 x1 x2) 0 h0) := by
  rw [thr0_step, state0_11_step, state0_7_step, state0_3_eq x0 x1 x2 h0]
  simp only [rounds_rounds]
  rfl

/-- The threshold of row group 1. -/
theorem thr1_eq (x0 : Vec F S1x30x256 .f32) (x1 : Vec F S1x30x1024 .f32) (x2 : Vec F S1x256x1024 .i8)
    (h64 : ∀ j : Fin 8, S256x1024.Slices ![64, 128 * j] S64x128) :
    k1_pay362 (k1_pay358 (k1_pay768 x0 x1 x2) (k1_pay769 x0 x1 x2) (k1_pay770 x0 x1 x2) (k1_pay771 x0 x1 x2) (k1_pay773 x0 x1 x2) (k1_pay774 x0 x1 x2) (k1_pay775 x0 x1 x2) (k1_pay776 x0 x1 x2)) (k1_pay359 (k1_pay768 x0 x1 x2) (k1_pay769 x0 x1 x2) (k1_pay770 x0 x1 x2) (k1_pay771 x0 x1 x2) (k1_pay772 x0 x1 x2) (k1_pay773 x0 x1 x2) (k1_pay774 x0 x1 x2) (k1_pay775 x0 x1 x2) (k1_pay776 x0 x1 x2)) (k1_pay360 (k1_pay768 x0 x1 x2) (k1_pay769 x0 x1 x2) (k1_pay770 x0 x1 x2) (k1_pay771 x0 x1 x2) (k1_pay772 x0 x1 x2) (k1_pay773 x0 x1 x2) (k1_pay774 x0 x1 x2) (k1_pay775 x0 x1 x2) (k1_pay776 x0 x1 x2)) (k1_pay361 (k1_pay768 x0 x1 x2) (k1_pay769 x0 x1 x2) (k1_pay770 x0 x1 x2) (k1_pay771 x0 x1 x2) (k1_pay773 x0 x1 x2) (k1_pay774 x0 x1 x2) (k1_pay775 x0 x1 x2) (k1_pay776 x0 x1 x2))
      = chunkThr (cut (k1_pay707 x0 x1 x2) 64 h64) := by
  rw [thr1_step, state1_12_step, state1_8_step, state1_4_eq x0 x1 x2 h64]
  simp only [rounds_rounds]
  rfl

/-- The threshold of row group 2. -/
theorem thr2_eq (x0 : Vec F S1x30x256 .f32) (x1 : Vec F S1x30x1024 .f32) (x2 : Vec F S1x256x1024 .i8)
    (h128 : ∀ j : Fin 8, S256x1024.Slices ![128, 128 * j] S64x128) :
    k1_pay546 (k1_pay543 (k1_pay801 x0 x1 x2) (k1_pay802 x0 x1 x2) (k1_pay803 x0 x1 x2) (k1_pay804 x0 x1 x2) (k1_pay805 x0 x1 x2) (k1_pay806 x0 x1 x2) (k1_pay807 x0 x1 x2)) (k1_pay544 (k1_pay801 x0 x1 x2) (k1_pay802 x0 x1 x2) (k1_pay803 x0 x1 x2) (k1_pay804 x0 x1 x2) (k1_pay805 x0 x1 x2) (k1_pay806 x0 x1 x2) (k1_pay807 x0 x1 x2) (k1_pay516 (k1_pay793 x0 x1 x2) (k1_pay794 x0 x1 x2) (k1_pay795 x0 x1 x2) (k1_pay796 x0 x1 x2) (k1_pay800 x0 x1 x2))) (k1_pay545 (k1_pay801 x0 x1 x2) (k1_pay802 x0 x1 x2) (k1_pay803 x0 x1 x2) (k1_pay804 x0 x1 x2) (k1_pay805 x0 x1 x2) (k1_pay806 x0 x1 x2) (k1_pay807 x0 x1 x2))
      = chunkThr (cut (k1_pay707 x0 x1 x2) 128 h128) := by
  rw [thr2_step, state2_12_step, state2_8_step, state2_4_eq x0 x1 x2 h128]
  simp only [rounds_rounds]
  rfl

/-- The threshold of row group 3. -/
theorem thr3_eq (x0 : Vec F S1x30x256 .f32) (x1 : Vec F S1x30x1024 .f32) (x2 : Vec F S1x256x1024 .i8)
    (h192 : ∀ j : Fin 8, S256x1024.Slices ![192, 128 * j] S64x128) :
    rowMax (rounds (state3_13 x0 x1 x2) 6).a = chunkThr (cut (k1_pay707 x0 x1 x2) 192 h192) := by
  rw [state3_13_step, state3_9_step, state3_5_step, state3_1_eq x0 x1 x2 h192]
  simp only [rounds_rounds]
  rfl

/-- The second kernel's block: the row softmax over the masked entries, the mask by the thresholds. -/
theorem out1_3_eq (x0 : Vec F S1x30x256 .f32) (x1 : Vec F S1x30x1024 .f32) (x2 : Vec F S1x256x1024 .i8)
    (h0 : ∀ j : Fin 8, S256x1024.Slices ![0, 128 * j] S64x128) (h64 : ∀ j : Fin 8, S256x1024.Slices ![64, 128 * j] S64x128) (h128 : ∀ j : Fin 8, S256x1024.Slices ![128, 128 * j] S64x128) (h192 : ∀ j : Fin 8, S256x1024.Slices ![192, 128 * j] S64x128) :
    out1_3 x0 x1 x2 = View.canon [⟨r1_2, k1_pay1 (k1_pay2 (View.ld x0 r1_0) (View.ld x1 r1_1))
      (maskOf (k1_pay707 x0 x1 x2) (chunkThr (cut (k1_pay707 x0 x1 x2) 0 h0))
        (chunkThr (cut (k1_pay707 x0 x1 x2) 64 h64)) (chunkThr (cut (k1_pay707 x0 x1 x2) 128 h128))
        (chunkThr (cut (k1_pay707 x0 x1 x2) 192 h192)))⟩] := by
  unfold out1_3
  rw [pay706_eq, thr0_eq x0 x1 x2 h0, thr1_eq x0 x1 x2 h64, thr2_eq x0 x1 x2 h128,
    ← thr3_eq x0 x1 x2 h192]
  rfl

end Cert.KernelIdeal.Gen
end
-- ==== Proof.Softmax.lean ====
module

public import proofs.«01_k».proof.Proof.Model

@[expose] public section

noncomputable section

/-! The softmax of a masked row, two ways. -/

namespace Cert.Model

open Idealize.ShloMosaic

variable {m : ℕ}

/-- The greatest entry of a row. -/
def top (a : Fin m → EReal) : EReal := Finset.univ.fold max ⊥ a

/-- The row with the entries outside `sel` set to zero. -/
def masked (a : Fin m → EReal) (sel : Fin m → Prop) [DecidablePred sel] (i : Fin m) : EReal :=
  a i * (if sel i then 1 else 0)

/-- The exponentials of a row against its greatest entry. -/
def expo (w : Fin m → EReal) (i : Fin m) : EReal := Ideal.exp (w i - top w)

/-- The exponentials of the masked row against the greatest entry of the whole row. -/
def expoSel (a : Fin m → EReal) (sel : Fin m → Prop) [DecidablePred sel] (i : Fin m) : EReal :=
  if sel i then Ideal.exp (a i - top a) else Ideal.exp (0 - top a)

/-- No entry of a row exceeds the greatest one. -/
theorem le_top (a : Fin m → EReal) (i : Fin m) : a i ≤ top a :=
  (Finset.le_fold_max _).2 (Or.inr ⟨i, Finset.mem_univ _, le_rfl⟩)

/-- Some entry of a row is the greatest one. -/
theorem top_attained (a : Fin m → EReal) (i₀ : Fin m) : ∃ i, a i = top a := by
  have h : top a ≤ top a := le_rfl
  rcases (Finset.le_fold_max _).1 h with h | ⟨i, _, h⟩
  · exact ⟨i₀, le_antisymm (le_top a i₀) (h.trans bot_le)⟩
  · exact ⟨i, le_antisymm (le_top a i) h⟩

/-- The exponential of a real is its real exponential. -/
theorem exp_coe (r : ℝ) : Ideal.exp (r : EReal) = (Real.exp r : EReal) := rfl
/-- The exponential of the least value is zero. -/
theorem exp_bot : Ideal.exp ⊥ = 0 := rfl

/-- A sum of reals, read as an extended real, is the sum of its terms read so. -/
theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

/-- A real divided by a real other than zero is their real quotient. -/
theorem div_coe (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

/-- A row of reals gives the same softmax whatever real is taken off every entry first. -/
theorem softmax_shift (w : Fin m → ℝ) (c d : ℝ) (i : Fin m) :
    Ideal.div (Ideal.exp ((w i : EReal) - c)) (∑ k, Ideal.exp ((w k : EReal) - c))
      = Ideal.div (Ideal.exp ((w i : EReal) - d)) (∑ k, Ideal.exp ((w k : EReal) - d)) := by
  have e : ∀ (c : ℝ) k, Ideal.exp ((w k : EReal) - c) = (Real.exp (w k - c) : EReal) := fun c k => by
    rw [← EReal.coe_sub, exp_coe]
  have p : ∀ c : ℝ, 0 < ∑ k, Real.exp (w k - c) := fun c =>
    Finset.sum_pos (fun k _ => Real.exp_pos _) ⟨i, Finset.mem_univ _⟩
  simp only [e, ← coe_sum]
  rw [div_coe _ (p c).ne', div_coe _ (p d).ne']
  congr 1
  rw [div_eq_div_iff (p c).ne' (p d).ne', Finset.mul_sum, Finset.mul_sum]
  refine Finset.sum_congr rfl fun k _ => ?_
  rw [← Real.exp_add, ← Real.exp_add]; congr 1; ring

/-- Where every entry that is `⊤` is selected, the softmax of the masked row against the masked row's greatest
    entry is the softmax against the whole row's greatest entry. -/
theorem softmax_masked (a : Fin m → EReal) (sel : Fin m → Prop) [DecidablePred sel] (h0 : ∀ i, 0 ≤ a i)
    (htop : ∀ i, a i = ⊤ → sel i) (i : Fin m) :
    Ideal.div (expo (masked a sel) i) (∑ k, expo (masked a sel) k)
      = Ideal.div (expoSel a sel i) (∑ k, expoSel a sel k) := by
  by_cases hf : ∃ k, a k = ⊤
  · obtain ⟨k, hk⟩ := hf
    have hm : masked a sel k = ⊤ := by unfold masked; rw [if_pos (htop k hk), mul_one, hk]
    have t1 : top a = ⊤ := top_le_iff.1 (hk ▸ le_top a k)
    have t2 : top (masked a sel) = ⊤ := top_le_iff.1 (hm ▸ le_top _ k)
    have e1 : ∀ j, expo (masked a sel) j = 0 := fun j => by
      unfold expo; rw [t2, EReal.sub_top, exp_bot]
    have e2 : ∀ j, expoSel a sel j = 0 := fun j => by
      unfold expoSel; rw [t1, EReal.sub_top, EReal.sub_top, exp_bot, ite_self]
    simp only [e1, e2]
  · have hr : ∀ j, ((a j).toReal : EReal) = a j := fun j =>
      EReal.coe_toReal (fun h => hf ⟨j, h⟩) fun h => by have := h0 j; rw [h] at this; simp at this
    obtain ⟨j, hj⟩ := top_attained a i
    obtain ⟨l, hl⟩ := top_attained (masked a sel) i
    have hw : ∀ j, masked a sel j = (((a j).toReal * (if sel j then 1 else 0) : ℝ) : EReal) := fun j => by
      unfold masked; rw [EReal.coe_mul, hr]; split <;> simp
    have e1 : ∀ k, expo (masked a sel) k =
        Ideal.exp ((((a k).toReal * (if sel k then 1 else 0) : ℝ) : EReal)
          - (((a l).toReal * (if sel l then 1 else 0) : ℝ) : EReal)) := fun k => by
      unfold expo; rw [← hl, hw, hw]
    have e2 : ∀ k, expoSel a sel k =
        Ideal.exp ((((a k).toReal * (if sel k then 1 else 0) : ℝ) : EReal) - ((a j).toReal : EReal)) := fun k => by
      unfold expoSel; rw [← hj, hr j]; split <;> simp [hr]
    simp only [e1, e2]
    exact softmax_shift (fun k => (a k).toReal * (if sel k then 1 else 0)) _ _ i

/-- A host maximum over the last axis, read at a row. -/
theorem rowTop {A B C : ℕ} (w : FVec Ideal ⟨3, ![A, B, C]⟩ .f32) (c : FVec Ideal ⟨0, ![]⟩ .f32)
    (h : (⟨3, ![A, B, C]⟩ : Shape).ReducesTo [2] ⟨2, ![A, B]⟩) (hu : 0 < (⟨0, ![]⟩ : Shape).numel) (b : Fin A) (n : Fin B) :
    Host.reduce FloatOps.maximumf w c h hu (ix2 b n)
      = Finset.univ.fold max (c (Shape.Idx.first hu)) fun k : Fin C => w (ix3 b n k) := by
  simp only [pointwise]

end Cert.Model
-- ==== Proof.Select.lean ====
module

public import proofs.«01_k».proof.Proof.Chunk
public import proofs.«01_k».proof.Proof.Softmax

@[expose] public section

set_option maxRecDepth 16384
set_option maxHeartbeats 1000000

noncomputable section

/-! The kernel's choice of entries, row by row. -/

namespace Cert.KernelIdeal.Gen

open Idealize.ShloMosaic Idealize.SL.Sem Cert.Slots Cert.Model

/-- The value that fills an emptied slot. -/
def filler : EReal := Ideal.ofBits .f32 0xBF800000#32

/-- The filler is negative. -/
theorem filler_neg : filler < 0 := by
  unfold filler
  simp [Ideal.ofBits, Ideal.ieee, -EReal.coe_mul, -EReal.coe_neg]

/-- The greatest first slot of a row. -/
def topSlot (s : Fin 128 → Slots EReal) : EReal := top fun l => (s l).a

/-- The lanes of row `r`. -/
def lanes (s : Slots (FVec Ideal S64x128 .f32)) (r : Fin 64) (l : Fin 128) : Slots EReal :=
  s.map fun v => v (ix2 r l)

/-- The greatest value of a row of one slot's vector. -/
theorem rowMax_at (a : FVec Ideal S64x128 .f32) (r : Fin 64) :
    (rowMax a (ix2 r 0) : EReal) = top fun l => a (ix2 r l) := by
  unfold rowMax top
  pointwise
  rw [← bits_bot]

/-- Where a lane holds the row's greatest value. -/
theorem hits_at (a : FVec Ideal S64x128 .f32) (r : Fin 64) (l : Fin 128) :
    hits a (ix2 r l) = Ideal.cmp .oeq (a (ix2 r l)) (top fun l => a (ix2 r l)) := by
  rw [← rowMax_at]
  unfold hits
  generalize rowMax a = t
  pointwise

/-- The choice on the row's hits. -/
theorem select_at (a x y : FVec Ideal S64x128 .f32) (r : Fin 64) (l : Fin 128) :
    (select (hits a) x y (ix2 r l) : EReal)
      = if a (ix2 r l) = top (fun l => a (ix2 r l)) then x (ix2 r l) else y (ix2 r l) := by
  change (if hits a (ix2 r l) = 1#1 then x (ix2 r l) else y (ix2 r l) : EReal) = _
  rw [hits_at]
  by_cases h : a (ix2 r l) = top fun l => a (ix2 r l)
  · rw [if_pos h]; simp [Ideal.cmp, ← h]
  · rw [if_neg h]; simp [Ideal.cmp, h]

/-- A round on the vectors is a round on every row. -/
theorem lanes_round (s : Slots (FVec Ideal S64x128 .f32)) (r : Fin 64) :
    lanes (round s) r = pops filler (topSlot (lanes s r)) (lanes s r) := by
  funext l
  exact Slots.map_pop (fun v : FVec Ideal S64x128 .f32 => (v (ix2 r l) : EReal)) (fun x y => select_at s.a x y r l) low s

/-- So are several rounds. -/
theorem lanes_rounds (s : Slots (FVec Ideal S64x128 .f32)) (r : Fin 64) (n : ℕ) :
    lanes (rounds s n) r = after filler topSlot (lanes s r) n := by
  induction n with
  | zero => rfl
  | succ n ih => rw [rounds, lanes_round, ih]; rfl

/-- Sorting the vectors sorts every lane. -/
theorem lanes_sort (s : Slots (FVec Ideal S64x128 .f32)) (r : Fin 64) :
    lanes (s.sort maximumf minimumf) r = fun l => (lanes s r l).sort max min := by
  funext l
  exact Slots.map_sort (fun v : FVec Ideal S64x128 .f32 => (v (ix2 r l) : EReal)) (fun _ _ => rfl) (fun _ _ => rfl) s

/-- The threshold of a row. -/
theorem chunkThr_at (s : Slots (FVec Ideal S64x128 .f32)) (r : Fin 64) :
    (chunkThr s (ix2 r 0) : EReal)
      = topSlot (after filler topSlot (fun l => (lanes s r l).sort max min) 19) := by
  have e : ∀ s : Slots (FVec Ideal S64x128 .f32), (rowMax s.a (ix2 r 0) : EReal) = topSlot (lanes s r) :=
    fun s => rowMax_at s.a r
  unfold chunkThr
  rw [e, lanes_rounds, lanes_sort]

/-- The greatest first slot is one and bounds all. -/
theorem topSlot_spec (s : Fin 128 → Slots EReal) : (∀ l, (s l).a ≤ topSlot s) ∧ ∃ k, (s k).a = topSlot s :=
  ⟨fun l => le_top (fun l => (s l).a) l, (top_attained (fun l => (s l).a) 0).imp fun _ h => h⟩

/-- One lane of the blocks of a row. -/
theorem lanes_cut (v : FVec Ideal S256x1024 .f32) (st : ℕ) (h : ∀ j : Fin 8, S256x1024.Slices ![st, 128 * j] S64x128)
    (r : Fin 64) (hr : st + r.val < 256) (l : Fin 128) :
    lanes (cut v st h) r l =
      ⟨v (ix2 ⟨st + r.val, hr⟩ ⟨l.val, by omega⟩), v (ix2 ⟨st + r.val, hr⟩ ⟨128 + l.val, by omega⟩),
       v (ix2 ⟨st + r.val, hr⟩ ⟨256 + l.val, by omega⟩), v (ix2 ⟨st + r.val, hr⟩ ⟨384 + l.val, by omega⟩),
       v (ix2 ⟨st + r.val, hr⟩ ⟨512 + l.val, by omega⟩), v (ix2 ⟨st + r.val, hr⟩ ⟨640 + l.val, by omega⟩),
       v (ix2 ⟨st + r.val, hr⟩ ⟨768 + l.val, by omega⟩), v (ix2 ⟨st + r.val, hr⟩ ⟨896 + l.val, by omega⟩)⟩ := by
  unfold lanes cut Slots.map
  pointwise

/-- The lanes' slots that reach a level are the row's entries that do. -/
theorem total_cut (v : FVec Ideal S256x1024 .f32) (st : ℕ) (h : ∀ j : Fin 8, S256x1024.Slices ![st, 128 * j] S64x128)
    (r : Fin 64) (hr : st + r.val < 256) (x : EReal) :
    total (fun l => (lanes (cut v st h) r l).sort max min) x
      = (Finset.univ.filter fun i : Fin 1024 => x ≤ v (ix2 ⟨st + r.val, hr⟩ i)).card := by
  rw [Finset.card_filter, ← (finProdFinEquiv (m := 8) (n := 128)).sum_comp
    (fun i : Fin 1024 => if x ≤ v (ix2 ⟨st + r.val, hr⟩ i) then 1 else 0), Fintype.sum_prod_type, Finset.sum_comm]
  refine Finset.sum_congr rfl fun l _ => ?_
  rw [cnt_sort, lanes_cut v st h r hr, Fin.sum_univ_eight]
  have e : ∀ (j : Fin 8) (k : ℕ) (hk : k < 1024), l.val + 128 * j.val = k →
      finProdFinEquiv (m := 8) (n := 128) (j, l) = ⟨k, hk⟩ := fun j k hk he => Fin.ext he
  rw [e 0 l.val (by omega) (by simp), e 1 (128 + l.val) (by omega) (by simp; omega),
    e 2 (256 + l.val) (by omega) (by simp; omega), e 3 (384 + l.val) (by omega) (by simp; omega),
    e 4 (512 + l.val) (by omega) (by simp; omega), e 5 (640 + l.val) (by omega) (by simp; omega),
    e 6 (768 + l.val) (by omega) (by simp; omega), e 7 (896 + l.val) (by omega) (by simp; omega)]
  rfl

/-- The threshold cuts off exactly the twenty greatest entries of a row without ties among them. -/
theorem thr_at (v : FVec Ideal S256x1024 .f32) (st : ℕ) (h : ∀ j : Fin 8, S256x1024.Slices ![st, 128 * j] S64x128)
    (r : Fin 64) (hr : st + r.val < 256) (p : Fin 1024 → Fin 1024) (hinj : Function.Injective p)
    (hsur : Function.Surjective p)
    (anti : ∀ i j, i < j → v (ix2 ⟨st + r.val, hr⟩ (p j)) ≤ v (ix2 ⟨st + r.val, hr⟩ (p i)))
    (strict : ∀ i j : Fin 1024, i < j → j.val ≤ 20 →
      v (ix2 ⟨st + r.val, hr⟩ (p j)) < v (ix2 ⟨st + r.val, hr⟩ (p i)))
    (hbase : ∀ i, (0 : EReal) ≤ v (ix2 ⟨st + r.val, hr⟩ i)) (i : Fin 1024) :
    chunkThr (cut v st h) (ix2 r 0) ≤ v (ix2 ⟨st + r.val, hr⟩ i) ↔ ∃ k : Fin 1024, k.val < 20 ∧ p k = i := by
  rw [chunkThr_at]
  refine thr_le_iff (low := filler) (base := 0) (by decide) (fun i => v (ix2 ⟨st + r.val, hr⟩ i)) p hinj hsur anti
    strict filler_neg hbase (fun l => ⟨desc_sort _, low_sort _ _ ?_⟩) topSlot_spec (total_cut v st h r hr) i
  have hf : ∀ i, filler ≤ v (ix2 ⟨st + r.val, hr⟩ i) := fun i => filler_neg.le.trans (hbase i)
  rw [lanes_cut v st h r hr]
  exact ⟨hf _, hf _, hf _, hf _, hf _, hf _, hf _, hf _⟩

/-- The mask of a row, in each of the four groups of rows. -/
theorem maskOf_at (v : FVec Ideal S256x1024 .f32) (t0 t1 t2 t3 : FVec Ideal S64x1 .f32) (r : Fin 64) (j : Fin 1024) :
    maskOf v t0 t1 t2 t3 (ix2 ⟨0 + r.val, by omega⟩ j)
        = Ideal.cmp .oge (v (ix2 ⟨0 + r.val, by omega⟩ j)) (t0 (ix2 r 0))
    ∧ maskOf v t0 t1 t2 t3 (ix2 ⟨64 + r.val, by omega⟩ j)
        = Ideal.cmp .oge (v (ix2 ⟨64 + r.val, by omega⟩ j)) (t1 (ix2 r 0))
    ∧ maskOf v t0 t1 t2 t3 (ix2 ⟨128 + r.val, by omega⟩ j)
        = Ideal.cmp .oge (v (ix2 ⟨128 + r.val, by omega⟩ j)) (t2 (ix2 r 0))
    ∧ maskOf v t0 t1 t2 t3 (ix2 ⟨192 + r.val, by omega⟩ j)
        = Ideal.cmp .oge (v (ix2 ⟨192 + r.val, by omega⟩ j)) (t3 (ix2 r 0)) := by
  have hr := r.isLt
  refine ⟨?_, ?_, ?_, ?_⟩ <;> (unfold maskOf; pointwise)
  · have e : (⟨128 + r.val - 64 - 64, by omega⟩ : Fin 64) = r := Fin.ext (by show 128 + r.val - 64 - 64 = r.val; omega)
    rw [dif_neg (by omega), dif_neg (by omega), dif_pos (by omega), e]
  · have e : (⟨192 + r.val - 64 - 64 - 64, by omega⟩ : Fin 64) = r :=
      Fin.ext (by show 192 + r.val - 64 - 64 - 64 = r.val; omega)
    rw [dif_neg (by omega), dif_neg (by omega), dif_neg (by omega), e]

/-- A comparison `≥` is one exactly where it holds. -/
theorem oge_iff (x y : EReal) : Ideal.cmp .oge x y = 1#1 ↔ y ≤ x := by
  by_cases h : y ≤ x <;> simp [Ideal.cmp, h]

/-- The mask of a row, from what the threshold of the row's group does. -/
theorem maskOf_iff (v : FVec Ideal S256x1024 .f32) (t0 t1 t2 t3 : FVec Ideal S64x1 .f32) (R : Fin 256) (i : Fin 1024)
    (q : Prop)
    (q0 : ∀ (r : Fin 64) (hr : 0 + r.val < 256), R = ⟨0 + r.val, hr⟩ → (t0 (ix2 r 0) ≤ v (ix2 R i) ↔ q))
    (q1 : ∀ (r : Fin 64) (hr : 64 + r.val < 256), R = ⟨64 + r.val, hr⟩ → (t1 (ix2 r 0) ≤ v (ix2 R i) ↔ q))
    (q2 : ∀ (r : Fin 64) (hr : 128 + r.val < 256), R = ⟨128 + r.val, hr⟩ → (t2 (ix2 r 0) ≤ v (ix2 R i) ↔ q))
    (q3 : ∀ (r : Fin 64) (hr : 192 + r.val < 256), R = ⟨192 + r.val, hr⟩ → (t3 (ix2 r 0) ≤ v (ix2 R i) ↔ q)) :
    maskOf v t0 t1 t2 t3 (ix2 R i) = 1#1 ↔ q := by
  have hR := R.isLt
  rcases Nat.lt_or_ge R.val 64 with h | h
  · obtain ⟨r, hr, e⟩ : ∃ (r : Fin 64) (hr : 0 + r.val < 256), R = ⟨0 + r.val, hr⟩ :=
      ⟨⟨R.val - 0, by omega⟩, by show 0 + (R.val - 0) < 256; omega,
        Fin.ext (by show R.val = 0 + (R.val - 0); omega)⟩
    rw [← q0 r hr e]; subst e
    rw [(maskOf_at v t0 t1 t2 t3 r i).1, oge_iff]
  rcases Nat.lt_or_ge R.val 128 with h' | h'
  · obtain ⟨r, hr, e⟩ : ∃ (r : Fin 64) (hr : 64 + r.val < 256), R = ⟨64 + r.val, hr⟩ :=
      ⟨⟨R.val - 64, by omega⟩, by show 64 + (R.val - 64) < 256; omega,
        Fin.ext (by show R.val = 64 + (R.val - 64); omega)⟩
    rw [← q1 r hr e]; subst e
    rw [(maskOf_at v t0 t1 t2 t3 r i).2.1, oge_iff]
  rcases Nat.lt_or_ge R.val 192 with h'' | h''
  · obtain ⟨r, hr, e⟩ : ∃ (r : Fin 64) (hr : 128 + r.val < 256), R = ⟨128 + r.val, hr⟩ :=
      ⟨⟨R.val - 128, by omega⟩, by show 128 + (R.val - 128) < 256; omega,
        Fin.ext (by show R.val = 128 + (R.val - 128); omega)⟩
    rw [← q2 r hr e]; subst e
    rw [(maskOf_at v t0 t1 t2 t3 r i).2.2.1, oge_iff]
  · obtain ⟨r, hr, e⟩ : ∃ (r : Fin 64) (hr : 192 + r.val < 256), R = ⟨192 + r.val, hr⟩ :=
      ⟨⟨R.val - 192, by omega⟩, by show 192 + (R.val - 192) < 256; omega,
        Fin.ext (by show R.val = 192 + (R.val - 192); omega)⟩
    rw [← q3 r hr e]; subst e
    rw [(maskOf_at v t0 t1 t2 t3 r i).2.2.2, oge_iff]

/-- The kernel's mask keeps exactly the twenty greatest entries of a row without ties among them. -/
theorem mask_iff (v : FVec Ideal S256x1024 .f32) (h0 : ∀ j : Fin 8, S256x1024.Slices ![0, 128 * j] S64x128)
    (h64 : ∀ j : Fin 8, S256x1024.Slices ![64, 128 * j] S64x128)
    (h128 : ∀ j : Fin 8, S256x1024.Slices ![128, 128 * j] S64x128)
    (h192 : ∀ j : Fin 8, S256x1024.Slices ![192, 128 * j] S64x128)
    (R : Fin 256) (p : Fin 1024 → Fin 1024) (hinj : Function.Injective p) (hsur : Function.Surjective p)
    (anti : ∀ i j, i < j → v (ix2 R (p j)) ≤ v (ix2 R (p i)))
    (strict : ∀ i j : Fin 1024, i < j → j.val ≤ 20 → v (ix2 R (p j)) < v (ix2 R (p i)))
    (hbase : ∀ i, (0 : EReal) ≤ v (ix2 R i)) (i : Fin 1024) :
    maskOf v (chunkThr (cut v 0 h0)) (chunkThr (cut v 64 h64)) (chunkThr (cut v 128 h128))
        (chunkThr (cut v 192 h192)) (ix2 R i) = 1#1 ↔ ∃ k : Fin 1024, k.val < 20 ∧ p k = i := by
  refine maskOf_iff v _ _ _ _ R i _ (fun r hr e => ?_) (fun r hr e => ?_) (fun r hr e => ?_) (fun r hr e => ?_) <;>
    subst e
  · exact thr_at v 0 h0 r hr p hinj hsur anti strict hbase i
  · exact thr_at v 64 h64 r hr p hinj hsur anti strict hbase i
  · exact thr_at v 128 h128 r hr p hinj hsur anti strict hbase i
  · exact thr_at v 192 h192 r hr p hinj hsur anti strict hbase i

end Cert.KernelIdeal.Gen
-- ==== Proof.StageB.lean ====
module

public import proofs.«01_k».proof.Proof.Thresholds
public import proofs.«01_k».proof.Proof.Select
public import proofs.«01_k».proof.Proof.Model
public import Idealize.ShloMosaic.Lib.Pipeline.ValueKit

@[expose] public section

set_option maxRecDepth 16384
set_option maxHeartbeats 1000000

noncomputable section

/-! The second stage's output block, read at an index. -/

namespace Cert.KernelIdeal.Gen

open Idealize.ShloMosaic Idealize.SL.Sem Cert.Slots Cert.Model

/-- The adjacency a block of the second stage computes from the mixed features and the features. -/
def adjBlock (x0 : Vec Ideal S1x30x256 .f32) (x1 : Vec Ideal S1x30x1024 .f32) (r : Fin 256) (j : Fin 1024) : EReal :=
  max (∑ o : Fin 30, (x0 (ix3 0 o r) : EReal) * x1 (ix3 0 o j)) 0

/-- The adjacency, read at an index. -/
theorem pay2_at (x0 : Vec Ideal S1x30x256 .f32) (x1 : Vec Ideal S1x30x1024 .f32) (r : Fin 256) (j : Fin 1024) :
    (k1_pay2 (View.ld x0 r1_0) (View.ld x1 r1_1) (ix2 r j) : EReal) = adjBlock x0 x1 r j := by
  unfold k1_pay2 adjBlock
  pointwise

/-- The noise word as a number: read unsigned in eight bits, or signed in thirty-two. -/
theorem noise_eq (q : BitVec 8) :
    FloatOps.sitofp (F := Ideal) .f32 (BitVec.setWidth 32 q) = FloatOps.uitofp (F := Ideal) .f32 q := by
  change (((BitVec.setWidth 32 q).toInt : ℝ) : EReal) = ((q.toNat : ℝ) : EReal)
  have h : (BitVec.setWidth 32 q).toInt = (q.toNat : Int) := by
    have := q.isLt
    rw [BitVec.toInt_eq_toNat_of_lt (by rw [BitVec.toNat_setWidth, Nat.mod_eq_of_lt (by omega)]; omega),
      BitVec.toNat_setWidth, Nat.mod_eq_of_lt (by omega)]
  rw [h]
  simp

/-- The values the kernel ranks: the adjacency plus the scaled noise. -/
theorem pay707_at (x0 : Vec Ideal S1x30x256 .f32) (x1 : Vec Ideal S1x30x1024 .f32) (x2 : Vec Ideal S1x256x1024 .i8)
    (r : Fin 256) (j : Fin 1024) :
    (k1_pay707 x0 x1 x2 (ix2 r j) : EReal)
      = adjBlock x0 x1 r j + FloatOps.sitofp (F := Ideal) .f32 (BitVec.setWidth 32 (x2 (ix3 0 r j) : BitVec 8)) * step := by
  unfold k1_pay707 k1_pay3 adjBlock
  pointwise [k1_pay2]
  rw [noise_eq]
  rfl

/-- The exponentials of a row, with the row's greatest value taken over the unmasked row. -/
theorem pay1_at (a : FVec Ideal S256x1024 .f32) (mask : IVec S256x1024 1) (r : Fin 256) (j : Fin 1024) :
    (k1_pay1 a mask (ix3 0 r j) : EReal)
      = Ideal.div (expoSel (fun j => a (ix2 r j)) (fun j => mask (ix2 r j) = 1#1) j)
        (∑ k, expoSel (fun j => a (ix2 r j)) (fun j => mask (ix2 r j) = 1#1) k) := by
  have hs : ∀ (c : BitVec 1) (x y : EReal), Scalar.select c x y = if c = 1#1 then x else y := fun _ _ _ => rfl
  unfold k1_pay1
  pointwise
  rw [bits_bot]
  simp only [hs]
  unfold expoSel top
  rfl

/-- The adjacency of a block is not negative. -/
theorem adjBlock_nonneg (x0 : Vec Ideal S1x30x256 .f32) (x1 : Vec Ideal S1x30x1024 .f32) (r : Fin 256) (j : Fin 1024) :
    0 ≤ adjBlock x0 x1 r j := le_max_right _ _

/-- The slices of a row group lie inside the block. -/
theorem slices (st : ℕ) (hst : st + 64 ≤ 256) (j : Fin 8) : S256x1024.Slices ![st, 128 * j] S64x128 := by
  have := j.isLt
  refine ⟨rfl, fun a => ?_⟩
  fin_cases a
  · exact hst
  · show 128 * j.val + 128 ≤ 1024
    omega

/-- The scaled noise is not negative. -/
theorem noise_nonneg (q : BitVec 8) :
    (0 : EReal) ≤ FloatOps.sitofp (F := Ideal) .f32 (BitVec.setWidth 32 q) * step := by
  rw [noise_eq]
  exact mul_nonneg (EReal.coe_nonneg.2 (Nat.cast_nonneg _)) step_pos.le

/-- The exponentials of a row under equivalent choices. -/
theorem expoSel_congr {m : ℕ} (a : Fin m → EReal) (sel sel' : Fin m → Prop) [DecidablePred sel] [DecidablePred sel']
    (h : ∀ i, sel i ↔ sel' i) (i : Fin m) : expoSel a sel i = expoSel a sel' i := by
  unfold expoSel
  by_cases hs : sel i
  · rw [if_pos hs, if_pos ((h i).1 hs)]
  · rw [if_neg hs, if_neg fun q => hs ((h i).2 q)]

/-- A row's softmax under equivalent choices. -/
theorem softmax_congr {m : ℕ} (a a' : Fin m → EReal) (ha : a = a') (sel sel' : Fin m → Prop) {d : DecidablePred sel}
    {d' : DecidablePred sel'} (h : ∀ i, sel i ↔ sel' i) (i : Fin m) :
    Ideal.div (expoSel a sel i) (∑ k, expoSel a sel k) = Ideal.div (expoSel a' sel' i) (∑ k, expoSel a' sel' k) := by
  subst ha
  rw [expoSel_congr a sel sel' h i]
  exact congrArg (Ideal.div _) (Finset.sum_congr rfl fun k _ => expoSel_congr a sel sel' h k)

/-- A store of the whole output block leaves the stored value. -/
theorem whole_out (w : Vec Ideal S1x256x1024 .f32) :
    View.canon ([⟨r1_2, w⟩] : List (View.Piece (Elt Ideal) S1x256x1024 .f32)) = w :=
  View.canon_cons_unit_lit _ _ _ (by decide)

open Classical in
/-- The second stage's output block: the softmax of the adjacency row with the entries outside the twenty greatest
    of the ranked values set to zero, for a row without ties among those. -/
theorem out3_at (x0 : Vec Ideal S1x30x256 .f32) (x1 : Vec Ideal S1x30x1024 .f32) (x2 : Vec Ideal S1x256x1024 .i8)
    (R : Fin 256) (v : Fin 1024 → EReal) (hv : ∀ j, v j = adjBlock x0 x1 R j
      + FloatOps.sitofp (F := Ideal) .f32 (BitVec.setWidth 32 (x2 (ix3 0 R j) : BitVec 8)) * step)
    (p : Fin 1024 → Fin 1024) (hinj : Function.Injective p) (hsur : Function.Surjective p)
    (anti : ∀ i j, i < j → v (p j) ≤ v (p i)) (strict : ∀ i j : Fin 1024, i < j → j.val ≤ 20 → v (p j) < v (p i))
    (j : Fin 1024) :
    (out1_3 x0 x1 x2 (ix3 0 R j) : EReal)
      = Ideal.div (expoSel (adjBlock x0 x1 R) (fun j => ∃ k : Fin 1024, k.val < 20 ∧ p k = j) j)
        (∑ k, expoSel (adjBlock x0 x1 R) (fun j => ∃ k : Fin 1024, k.val < 20 ∧ p k = j) k) := by
  have hq : ∀ j, v j = (k1_pay707 x0 x1 x2 (ix2 R j) : EReal) := fun j => (hv j).trans (pay707_at x0 x1 x2 R j).symm
  rw [out1_3_eq x0 x1 x2 (slices 0 (by decide)) (slices 64 (by decide)) (slices 128 (by decide)) (slices 192 (by decide))]
  generalize k1_pay707 x0 x1 x2 = w at hq ⊢
  have hs := mask_iff w (slices 0 (by decide)) (slices 64 (by decide)) (slices 128 (by decide)) (slices 192 (by decide))
    R p hinj hsur (fun i j h => by rw [← hq, ← hq]; exact anti i j h)
    (fun i j h h' => by rw [← hq, ← hq]; exact strict i j h h')
    (fun i => by rw [← hq, hv]; exact add_nonneg (adjBlock_nonneg _ _ _ _) (noise_nonneg _))
  generalize maskOf w (chunkThr (cut w 0 _)) (chunkThr (cut w 64 _)) (chunkThr (cut w 128 _)) (chunkThr (cut w 192 _)) = mask
    at hs ⊢
  rw [whole_out, pay1_at]
  have ha : (fun j => (k1_pay2 (View.ld x0 r1_0) (View.ld x1 r1_1) (ix2 R j) : EReal)) = adjBlock x0 x1 R :=
    funext (pay2_at x0 x1 R)
  exact softmax_congr _ _ ha _ _ hs j

end Cert.KernelIdeal.Gen
-- ==== Proof.Blocks.lean ====
module

public import proofs.«01_k».proof.Proof.StageA
public import proofs.«01_k».proof.Proof.StageB

@[expose] public section

set_option maxRecDepth 16384
set_option maxHeartbeats 1000000

noncomputable section

/-! The arrays the two launches leave. -/

namespace Cert.KernelIdeal.Gen

open Idealize.ShloMosaic Idealize.SL.Sem Cert.Model
open Idealize.ShloMosaic.TcCoe

variable (V : (c : Dev nD) → (b : Ref sig .tc) → Buf (Elt Ideal) ((c : Thread nD τ).loc b)) (c : Dev nD)

/-- The blocks of the first launch: one batch entry per point, every other operand whole. -/
theorem idx0 : ∀ t : Fin cfg0.N, win0_0.index t = ![(grid0.coords t 0).val, 0, 0] ∧ win0_1.index t = ![0, 0]
    ∧ win0_2.index t = ![0, 0] ∧ win0_3.index t = ![0, 0] ∧ win0_4.index t = ![0, 0, 0] ∧ win0_5.index t = ![0, 0]
    ∧ win0_6.index t = ![(grid0.coords t 0).val, 0, 0] ∧ win0_7.index t = ![(grid0.coords t 0).val, 0, 0] :=
  (by decide +kernel : ∀ t : Fin grid0.N, _)

/-- The blocks of the second launch: one batch entry and 256 of its rows per point. -/
theorem idx1 : ∀ t : Fin cfg1.N, win1_0.index t = ![(grid1.coords t 0).val, 0, (grid1.coords t 1).val]
    ∧ win1_1.index t = ![(grid1.coords t 0).val, 0, 0]
    ∧ win1_2.index t = ![(grid1.coords t 0).val, (grid1.coords t 1).val, 0]
    ∧ win1_3.index t = ![(grid1.coords t 0).val, (grid1.coords t 1).val, 0] :=
  (by decide +kernel : ∀ t : Fin grid1.N, _)

/-- The layer of batch entry `b`, from the first launch's arrays. -/
def layerOf (b : Fin 16) : Fin 1024 → Fin 30 → EReal :=
  featBlock (fun i => V c main_call0_v0 (ix3 b (i 1) (i 2))) (V c main_call0_cst) (V c main_call0_v4) (V c main_call0_v5)
    (V c main_call0_v7)

/-- The layer a point computes is the layer of its batch entry. -/
theorem block_layer (t : Fin cfg0.N) (b : Fin 16) (hb : b.val = (grid0.coords t 0).val) :
    featBlock (iblk0 V c 0 t) (iblk0 V c 1 t) (iblk0 V c 2 t) (iblk0 V c 3 t) (iblk0 V c 4 t) = layerOf V c b := by
  unfold layerOf
  congr 1
  all_goals (funext i; blk_ext [iblk0, idx0 t])

/-- The place in the first output array of an element of a point's block. -/
theorem place6 (t : Fin cfg0.N) (b : Fin 16) (hb : b.val = (grid0.coords t 0).val) (o : Fin 30) (n : Fin 1024) :
    (win0_6.blk t).view.emb (ix3 0 o n) = ix3 b o n := by
  blk_ext [idx0 t]

/-- The place in the second output array of an element of a point's block. -/
theorem place7 (t : Fin cfg0.N) (b : Fin 16) (hb : b.val = (grid0.coords t 0).val) (o : Fin 30) (n : Fin 1024) :
    (win0_7.blk t).view.emb (ix3 0 o n) = ix3 b o n := by
  blk_ext [idx0 t]

/-- After the first launch: the layer, transposed. -/
theorem arr_layer : (dat0 V c).arrAt 6 cfg0.N = fun i => layerOf V c (i 0) (i 2) (i 1) := by
  refine (dat0 V c).arrAt_eq_of_covers 6 _ (by decide +kernel) fun t hf y => ?_
  blk_simp
  rw [after0_6]
  obtain ⟨o, n, rfl⟩ : ∃ (o : Fin 30) (n : Fin 1024), y = ix3 (0 : Fin 1) o n := ⟨y 1, y 2, by
    refine funext fun a => ?_
    match a with
    | ⟨0, _⟩ => exact Subsingleton.elim (α := Fin 1) _ _
    | ⟨1, _⟩ => rfl
    | ⟨2, _⟩ => rfl⟩
  have hb : ∃ b : Fin 16, b.val = (grid0.coords t 0).val := ⟨grid0.coords t 0, rfl⟩
  obtain ⟨b, hb⟩ := hb
  rw [place6 t b hb, out6_at, block_layer V c t b hb]
  rfl

/-- After the first launch: the layer normed and mixed, transposed. -/
theorem arr_mix : (dat0 V c).arrAt 7 cfg0.N
    = fun i => mix (layerOf V c (i 0)) (fun k o => V c main_arg4 (ix2 k o)) (i 2) (i 1) := by
  refine (dat0 V c).arrAt_eq_of_covers 7 _ (by decide +kernel) fun t hf y => ?_
  blk_simp
  rw [after0_7]
  obtain ⟨o, n, rfl⟩ : ∃ (o : Fin 30) (n : Fin 1024), y = ix3 (0 : Fin 1) o n := ⟨y 1, y 2, by
    refine funext fun a => ?_
    match a with
    | ⟨0, _⟩ => exact Subsingleton.elim (α := Fin 1) _ _
    | ⟨1, _⟩ => rfl
    | ⟨2, _⟩ => rfl⟩
  have hb : ∃ b : Fin 16, b.val = (grid0.coords t 0).val := ⟨grid0.coords t 0, rfl⟩
  obtain ⟨b, hb⟩ := hb
  have hm : iblk0 V c 5 t = V c main_arg4 := by funext i; blk_ext [iblk0, idx0 t]
  rw [place7 t b hb, out7_at, block_layer V c t b hb, hm]
  rfl

/-- The place in the result of an element of a point's block. -/
theorem place3 (t : Fin cfg1.N) (b : Fin 16) (hb : b.val = (grid1.coords t 0).val) (r : Fin 1024) (R : Fin 256)
    (hr : r.val = (grid1.coords t 1).val * 256 + R.val) (j : Fin 1024) :
    (win1_3.blk t).view.emb (ix3 0 R j) = ix3 b r j := by
  blk_ext [idx1 t]

/-- A block of the mixed layer. -/
theorem block_mix (t : Fin cfg1.N) (b : Fin 16) (hb : b.val = (grid1.coords t 0).val) (r : Fin 1024) (R : Fin 256)
    (hr : r.val = (grid1.coords t 1).val * 256 + R.val) (o : Fin 30) :
    (iblk1 V c 0 t (ix3 0 o R) : EReal) = V c main_call0_v8_1 (ix3 b o r) := by
  blk_ext [iblk1, idx1 t]

/-- A block of the layer. -/
theorem block_feat (t : Fin cfg1.N) (b : Fin 16) (hb : b.val = (grid1.coords t 0).val) (o : Fin 30) (j : Fin 1024) :
    (iblk1 V c 1 t (ix3 0 o j) : EReal) = V c main_call0_v8_0 (ix3 b o j) := by
  blk_ext [iblk1, idx1 t]

/-- A block of the noise words. -/
theorem block_noise (t : Fin cfg1.N) (b : Fin 16) (hb : b.val = (grid1.coords t 0).val) (r : Fin 1024) (R : Fin 256)
    (hr : r.val = (grid1.coords t 1).val * 256 + R.val) (j : Fin 1024) :
    iblk1 V c 2 t (ix3 0 R j) = V c main_arg5 (ix3 b r j) := by
  blk_ext [iblk1, idx1 t]

end Cert.KernelIdeal.Gen
-- ==== Proof.Host.lean ====
module

public import proofs.«01_k».proof.Proof.Gen.KernelIdeal.Frame
public import Idealize.ShloMosaic.Lib.Pointwise
public import Idealize.ShloMosaic.Lib.Claim
public import Idealize.ShloMosaic.Lib.StableHlo.ReadAt
public import Idealize.ShloMosaic.Lib.Routing.OpsSet

@[expose] public section

set_option maxRecDepth 16384
set_option maxHeartbeats 1000000

noncomputable section

/-! What the arrays of the first launch hold after the host operations before it. -/

namespace Cert.KernelIdeal.Gen

open Idealize.ShloMosaic Idealize.SL.Sem

variable (V : Valuation τ sig (Elt Ideal))

/-- The series without its last axis. -/
theorem series_host (b : Fin 16) (t : Fin 288) (n : Fin 1024) :
    (StableHlo.after hostOps0 V (Proc.devRef .tc main_call0_v0) (ix3 b t n) : EReal)
      = V (Proc.devRef .tc main_arg0) (ix4 b t n 0) := by
  after_reads_at

/-- The table of cosines and negated sines. -/
theorem table_host (f : Fin 320) (t : Fin 288) :
    (StableHlo.after hostOps0 V (Proc.devRef .tc main_call0_cst) (ix2 f t) : EReal)
      = Ideal.ofBits .f32 (Cert.KernelIdeal.lit0 (S320x288.rowMajor (ix2 f t))) := by
  after_reads_at

/-- The node weights, transposed. -/
theorem nodes_host (k : Fin 10) (n : Fin 1024) :
    (StableHlo.after hostOps0 V (Proc.devRef .tc main_call0_v5) (ix2 k n) : EReal)
      = V (Proc.devRef .tc main_arg2) (ix2 n k) := by
  after_reads_at

/-- The layer's weights, transposed. -/
theorem weights_host (k : Fin 42) (o : Fin 30) (n : Fin 1024) :
    (StableHlo.after hostOps0 V (Proc.devRef .tc main_call0_v7) (ix3 k o n) : EReal)
      = V (Proc.devRef .tc main_arg3) (ix3 n k o) := by
  after_reads_at

/-- Where an element of the frequency weights lands in the padded array. -/
theorem embed_lands (w : IVec S1 32) (hw : w = fun _ => 0#32) (k : Fin 32) (f : Fin 145) (p : Fin 32) (q : Fin 160) :
    scatter_S32x160_S1_S32x145_01_n_1_0.resultIdx? (ix2 k f) w = some (ix2 p q) ↔ k.val = p.val ∧ f.val = q.val := by
  subst hw
  rw [Routing.resultIdx?_eq_some]
  have e0 : scatter_S32x160_S1_S32x145_01_n_1_0.start (ix2 k f) (fun _ => 0#32) 0
      + ((scatter_S32x160_S1_S32x145_01_n_1_0.window (ix2 k f) 0 : ℕ) : Int) = k.val := by
    have h0 : scatter_S32x160_S1_S32x145_01_n_1_0.window (ix2 k f) 0 = k.val := rfl
    have h1 : scatter_S32x160_S1_S32x145_01_n_1_0.start (ix2 k f) (fun _ => 0#32) 0 = 0 := rfl
    rw [h0, h1, zero_add]
  have e1 : scatter_S32x160_S1_S32x145_01_n_1_0.start (ix2 k f) (fun _ => 0#32) 1
      + ((scatter_S32x160_S1_S32x145_01_n_1_0.window (ix2 k f) 1 : ℕ) : Int) = f.val := by
    have h0 : scatter_S32x160_S1_S32x145_01_n_1_0.window (ix2 k f) 1 = f.val := rfl
    have h1 : scatter_S32x160_S1_S32x145_01_n_1_0.start (ix2 k f) (fun _ => 0#32) 1 = 0 := rfl
    rw [h0, h1, zero_add]
  constructor
  · intro h
    exact ⟨by exact_mod_cast e0.symm.trans (h 0), by exact_mod_cast e1.symm.trans (h 1)⟩
  · intro h a
    match a with
    | ⟨0, _⟩ => exact e0.trans (by exact_mod_cast h.1)
    | ⟨1, _⟩ => exact e1.trans (by exact_mod_cast h.2)

/-- The frequency weights, transposed into the first 145 columns of the padded array. -/
theorem embed_host (k : Fin 32) (f : Fin 145) :
    (StableHlo.after hostOps0 V (Proc.devRef .tc main_call0_v4) (ix2 k (⟨f.val, by omega⟩ : Fin 160)) : EReal)
      = V (Proc.devRef .tc main_arg1) (ix2 f k) := by
  after_reads_at
  refine Routing.scatter_set_hit _ _ _ _ _ _ (fun k' hk' => ?_) (ix2 k f)
    ((embed_lands _ (funext fun i => by pointwise) k f k _).2 ⟨rfl, rfl⟩)
  rw [ValueIdx.eq_ix2 k'] at hk' ⊢
  obtain ⟨h0, h1⟩ := (embed_lands _ (funext fun i => by pointwise) (k' 0) (k' 1) k ⟨f.val, by omega⟩).1 hk'
  obtain rfl : k' 0 = k := Fin.ext h0
  obtain rfl : k' 1 = f := Fin.ext h1
  pointwise

end Cert.KernelIdeal.Gen
-- ==== Proof.Pad.lean ====
module

public import proofs.«01_k».proof.Proof.Model

@[expose] public section

set_option maxRecDepth 16384
set_option maxHeartbeats 1000000

noncomputable section

/-! Padding the frequencies. -/

namespace Cert.Model

open Idealize.ShloMosaic

/-- A sum whose last entries are zero is the sum of its first entries. -/
theorem sum_pad {a b : ℕ} (F : Fin (a + b) → EReal) (f : Fin a → EReal) (h : ∀ i, F (Fin.castAdd b i) = f i)
    (h0 : ∀ i, F (Fin.natAdd a i) = 0) : ∑ i, F i = ∑ i, f i := by
  rw [Fin.sum_univ_add, Finset.sum_congr rfl fun i _ => h i, Finset.sum_eq_zero fun i _ => h0 i, add_zero]

/-- Frequencies whose table rows are zero change nothing: the embedding over the padded tables is the embedding. -/
theorem embed_pad {a b : ℕ} (x : Fin 288 → Fin 1024 → EReal) (C S : Fin (a + b) → Fin 288 → EReal)
    (c s : Fin a → Fin 288 → EReal) (E : Fin (a + b) → Fin 32 → EReal) (e : Fin a → Fin 32 → EReal)
    (hC : ∀ i t, C (Fin.castAdd b i) t = c i t) (hS : ∀ i t, S (Fin.castAdd b i) t = s i t)
    (hE : ∀ i k, E (Fin.castAdd b i) k = e i k)
    (hC0 : ∀ i t, C (Fin.natAdd a i) t = 0) (hS0 : ∀ i t, S (Fin.natAdd a i) t = 0) (n : Fin 1024) (k : Fin 32) :
    embed (overFreqs (overNodes (mag x C S))) E n k = embed (overFreqs (overNodes (mag x c s))) e n k := by
  have m1 : ∀ n i, mag x C S n (Fin.castAdd b i) = mag x c s n i := fun n i => by
    unfold mag; simp only [hC, hS]
  have m0 : ∀ n i, mag x C S n (Fin.natAdd a i) = 0 := fun n i => by
    unfold mag; simp only [hC0, hS0, mul_zero, Finset.sum_const_zero, add_zero]; exact sqrt_zero
  have n1 : ∀ n i, overNodes (mag x C S) n (Fin.castAdd b i) = overNodes (mag x c s) n i := fun n i => by
    unfold overNodes; simp only [m1]
  have n0 : ∀ n i, overNodes (mag x C S) n (Fin.natAdd a i) = 0 := fun n i => by
    unfold overNodes; rw [m0]; exact zero_div (lt_max_of_lt_right tiny_pos)
  have q : ∀ n, ∑ i, overNodes (mag x C S) n i * overNodes (mag x C S) n i
      = ∑ i, overNodes (mag x c s) n i * overNodes (mag x c s) n i := fun n =>
    sum_pad _ _ (fun i => by rw [n1]) (fun i => by rw [n0, mul_zero])
  refine sum_pad _ _ (fun i => ?_) (fun i => ?_)
  · unfold overFreqs; rw [n1, hE, q]
  · unfold overFreqs; rw [n0, zero_div (lt_max_of_lt_right tiny_pos), zero_mul]

end Cert.Model
-- ==== Proof.Cosine.lean ====
module

public import proofs.«01_k».proof.KernelIdeal
public import proofs.«01_k».proof.ReferenceIdeal
public import Idealize.ShloMosaic.Lib.Pointwise

@[expose] public section

set_option maxRecDepth 65536
set_option maxHeartbeats 2000000

noncomputable section

/-! The kernel's table starts with the reference's cosines. -/

namespace Cert.KernelIdeal.Gen

/-- The blocks of 128 entries agree: both tables print the same words. -/
theorem cos_block : ∀ (k : Fin 326) (i : ℕ), i / 128 = k.val →
    Cert.KernelIdeal.lit0t i = Cert.ReferenceIdeal.lit0t i := by
  intro k i h
  have e1 : i / 16384 = k.val / 128 := by omega
  have e2 : i / 128 % 128 = k.val % 128 := by omega
  unfold Cert.KernelIdeal.lit0t Cert.ReferenceIdeal.lit0t
  rw [e1]
  clear e1 h
  fin_cases k <;> as_aux_lemma =>
    conv => lhs; whnf
    conv => rhs; whnf
    rw [e2]
    conv => lhs; whnf
    conv => rhs; whnf
    rfl

/-- The last 32 entries agree. -/
theorem cos_last : ∀ i : Fin 32, Cert.KernelIdeal.lit0t (41728 + i.val) = Cert.ReferenceIdeal.lit0t (41728 + i.val) := by
  decide +kernel

/-- Entry by entry, the kernel's cosines are the reference's. -/
theorem cos_entry (i : ℕ) (hi : i < 41760) : Cert.KernelIdeal.lit0t i = Cert.ReferenceIdeal.lit0t i := by
  by_cases h : i < 41728
  · exact cos_block ⟨i / 128, by omega⟩ i rfl
  · obtain ⟨j, rfl⟩ : ∃ j : Fin 32, i = 41728 + j.val := ⟨⟨i - 41728, by omega⟩, by simp only; omega⟩
    exact cos_last j

end Cert.KernelIdeal.Gen
-- ==== Proof.Sine.lean ====
module

public import proofs.«01_k».proof.KernelIdeal
public import proofs.«01_k».proof.ReferenceIdeal
public import Idealize.ShloMosaic.Lib.Pointwise

@[expose] public section

set_option maxRecDepth 65536
set_option maxHeartbeats 2000000

noncomputable section

/-! The kernel's table has the reference's negated sines from entry 46080 on. -/

namespace Cert.KernelIdeal.Gen

/-- The blocks of 128 entries agree: both tables print the same words. -/
theorem sin_block : ∀ (k : Fin 326) (i : ℕ), i / 128 = k.val →
    Cert.KernelIdeal.lit0t (46080 + i) = Cert.ReferenceIdeal.lit1t i := by
  intro k i h
  have e1 : (46080 + i) / 16384 = (360 + k.val) / 128 := by omega
  have e2 : (46080 + i) / 128 % 128 = (360 + k.val) % 128 := by omega
  have e3 : i / 16384 = k.val / 128 := by omega
  have e4 : i / 128 % 128 = k.val % 128 := by omega
  have e5 : (46080 + i) % 128 = i % 128 := by omega
  unfold Cert.KernelIdeal.lit0t Cert.ReferenceIdeal.lit1t
  rw [e1, e3]
  clear e1 e3 h
  fin_cases k <;> as_aux_lemma =>
    conv => lhs; whnf
    conv => rhs; whnf
    rw [e2, e4]
    conv => lhs; whnf
    conv => rhs; whnf
    rw [e5]
    rfl

/-- The last 32 entries agree. -/
theorem sin_last : ∀ i : Fin 32, Cert.KernelIdeal.lit0t (46080 + (41728 + i.val)) = Cert.ReferenceIdeal.lit1t (41728 + i.val) := by
  decide +kernel

/-- Entry by entry, the kernel's negated sines are the reference's. -/
theorem sin_entry (i : ℕ) (hi : i < 41760) : Cert.KernelIdeal.lit0t (46080 + i) = Cert.ReferenceIdeal.lit1t i := by
  by_cases h : i < 41728
  · exact sin_block ⟨i / 128, by omega⟩ i rfl
  · obtain ⟨j, rfl⟩ : ∃ j : Fin 32, i = 41728 + j.val := ⟨⟨i - 41728, by omega⟩, by simp only; omega⟩
    exact sin_last j

end Cert.KernelIdeal.Gen
-- ==== Proof.Zeros.lean ====
module

public import proofs.«01_k».proof.KernelIdeal
public import Idealize.ShloMosaic.Lib.Pointwise

@[expose] public section

set_option maxRecDepth 65536
set_option maxHeartbeats 2000000

noncomputable section

/-! The rows that pad the kernel's table are zero. -/

namespace Cert.KernelIdeal.Gen

/-- The rows after the cosines are zero. -/
theorem cos_pad : ∀ i : Fin 4320, Cert.KernelIdeal.lit0t (41760 + i.val) = 0#32 := by
  decide +kernel

/-- The rows after the sines are zero. -/
theorem sin_pad : ∀ i : Fin 4320, Cert.KernelIdeal.lit0t (87840 + i.val) = 0#32 := by
  decide +kernel

end Cert.KernelIdeal.Gen
-- ==== Proof.Table.lean ====
module

public import proofs.«01_k».proof.Proof.Cosine
public import proofs.«01_k».proof.Proof.Sine
public import proofs.«01_k».proof.Proof.Zeros

@[expose] public section

set_option maxRecDepth 16384
set_option maxHeartbeats 1000000

noncomputable section

/-! The rows of the kernel's table. -/

namespace Cert.KernelIdeal.Gen

open Idealize.ShloMosaic Idealize.SL.Sem

/-- Where a row of the kernel's table starts. -/
theorem row_kernel (f : Fin 320) (t : Fin 288) :
    Cert.KernelIdeal.lit0 (S320x288.rowMajor (ix2 f t)) = Cert.KernelIdeal.lit0t (f.val * 288 + t.val) := by
  have e : (S320x288.rowMajor (ix2 f t)).val = f.val * 288 + t.val := Shape.rowMajor_val_two _
  generalize S320x288.rowMajor (ix2 f t) = i at e ⊢
  obtain ⟨i, hi⟩ := i
  exact congrArg Cert.KernelIdeal.lit0t e

/-- Where a row of the reference's cosines starts. -/
theorem row_cos (f : Fin 145) (t : Fin 288) :
    Cert.ReferenceIdeal.lit0 (Cert.ReferenceIdeal.S145x288.rowMajor (ix2 f t)) = Cert.ReferenceIdeal.lit0t (f.val * 288 + t.val) := by
  have e : (Cert.ReferenceIdeal.S145x288.rowMajor (ix2 f t)).val = f.val * 288 + t.val := Shape.rowMajor_val_two _
  generalize Cert.ReferenceIdeal.S145x288.rowMajor (ix2 f t) = i at e ⊢
  obtain ⟨i, hi⟩ := i
  exact congrArg Cert.ReferenceIdeal.lit0t e

/-- Where a row of the reference's negated sines starts. -/
theorem row_sin (f : Fin 145) (t : Fin 288) :
    Cert.ReferenceIdeal.lit1 (Cert.ReferenceIdeal.S145x288.rowMajor (ix2 f t)) = Cert.ReferenceIdeal.lit1t (f.val * 288 + t.val) := by
  have e : (Cert.ReferenceIdeal.S145x288.rowMajor (ix2 f t)).val = f.val * 288 + t.val := Shape.rowMajor_val_two _
  generalize Cert.ReferenceIdeal.S145x288.rowMajor (ix2 f t) = i at e ⊢
  obtain ⟨i, hi⟩ := i
  exact congrArg Cert.ReferenceIdeal.lit1t e

/-- Rows 0 to 144 are the reference's cosines. -/
theorem table_cos (f : Fin 145) (t : Fin 288) (h : f.val < 320) :
    Cert.KernelIdeal.lit0 (S320x288.rowMajor (ix2 ⟨f.val, h⟩ t))
      = Cert.ReferenceIdeal.lit0 (Cert.ReferenceIdeal.S145x288.rowMajor (ix2 f t)) := by
  rw [row_kernel, row_cos]
  exact cos_entry _ (by have := f.isLt; have := t.isLt; show f.val * 288 + t.val < 41760; omega)

/-- Rows 160 to 304 are the reference's negated sines. -/
theorem table_sin (f : Fin 145) (t : Fin 288) (h : 160 + f.val < 320) :
    Cert.KernelIdeal.lit0 (S320x288.rowMajor (ix2 ⟨160 + f.val, h⟩ t))
      = Cert.ReferenceIdeal.lit1 (Cert.ReferenceIdeal.S145x288.rowMajor (ix2 f t)) := by
  rw [row_kernel, row_sin, show (160 + f.val) * 288 + t.val = 46080 + (f.val * 288 + t.val) by omega]
  exact sin_entry _ (by have := f.isLt; have := t.isLt; omega)

/-- Rows 145 to 159 are zero. -/
theorem table_cos_pad (f : Fin 15) (t : Fin 288) (h : 145 + f.val < 320) :
    Cert.KernelIdeal.lit0 (S320x288.rowMajor (ix2 ⟨145 + f.val, h⟩ t)) = 0#32 := by
  rw [row_kernel, show (145 + f.val) * 288 + t.val = 41760 + (f.val * 288 + t.val) by omega]
  exact cos_pad ⟨f.val * 288 + t.val, by omega⟩

/-- Rows 305 to 319 are zero. -/
theorem table_sin_pad (f : Fin 15) (t : Fin 288) (h : 160 + (145 + f.val) < 320) :
    Cert.KernelIdeal.lit0 (S320x288.rowMajor (ix2 ⟨160 + (145 + f.val), h⟩ t)) = 0#32 := by
  rw [row_kernel, show (160 + (145 + f.val)) * 288 + t.val = 87840 + (f.val * 288 + t.val) by omega]
  exact sin_pad ⟨f.val * 288 + t.val, by omega⟩

end Cert.KernelIdeal.Gen
-- ==== Proof.RefRead.lean ====
module

public import proofs.«01_k».proof.Proof.Gen.ReferenceIdeal.Run
public import proofs.«01_k».proof.Proof.Model
public import Idealize.ShloMosaic.Lib.StableHlo.ReadAt

@[expose] public section

set_option maxRecDepth 16384
set_option maxHeartbeats 1000000

noncomputable section

/-! The reference's named values read at an index. -/

namespace Cert.ReferenceIdeal.Value

open Idealize.ShloMosaic Idealize.SL.Sem Cert.ReferenceIdeal Cert.ReferenceIdeal.Gen Cert.Model

variable (V0 : Valuation τ sig (Elt Ideal))

/-- Batch entry `b` of the input. -/
def inX (b : Fin 16) (t : Fin 288) (n : Fin 1024) : EReal := V0 (Proc.devRef .tc main_arg0) (ix4 b t n 0)
/-- The embedding matrix. -/
def inE (f : Fin 145) (k : Fin 32) : EReal := V0 (Proc.devRef .tc main_arg1) (ix2 f k)
/-- The node features. -/
def inN (n : Fin 1024) (k : Fin 10) : EReal := V0 (Proc.devRef .tc main_arg2) (ix2 n k)
/-- The nodes' layer weights. -/
def inW (n : Fin 1024) (k : Fin 42) (o : Fin 30) : EReal := V0 (Proc.devRef .tc main_arg3) (ix3 n k o)
/-- The mixing matrix. -/
def inM (i o : Fin 30) : EReal := V0 (Proc.devRef .tc main_arg4) (ix2 i o)
/-- The noise words. -/
def inQ (b : Fin 16) (n k : Fin 1024) : BitVec 8 := V0 (Proc.devRef .tc main_arg5) (ix3 b n k)

/-- The cosine table. -/
def cosT (f : Fin 145) (t : Fin 288) : EReal := Ideal.ofBits .f32 (lit0 (S145x288.rowMajor (ix2 f t)))
/-- The table of negated sines. -/
def sinT (f : Fin 145) (t : Fin 288) : EReal := Ideal.ofBits .f32 (lit1 (S145x288.rowMajor (ix2 f t)))

/-- The layer of batch entry `b`. -/
def feat (b : Fin 16) : Fin 1024 → Fin 30 → EReal :=
  layer (embed (overFreqs (overNodes (mag (inX V0 b) cosT sinT))) (inE V0)) (inN V0) (inW V0)

/-- The cosine sums of the series. -/
theorem v2_at (b : Fin 16) (n : Fin 1024) (f : Fin 145) :
    (res_main_v2 V0 (ix3 b n f) : EReal) = ∑ t, inX V0 b t n * cosT f t := by
  unfold res_main_v2 res_main_v1 cosT; clean_types
  generalize lit0 = t0
  pointwise
  rfl

/-- The negated sine sums of the series. -/
theorem v3_at (b : Fin 16) (n : Fin 1024) (f : Fin 145) :
    (res_main_v3 V0 (ix3 b n f) : EReal) = ∑ t, inX V0 b t n * sinT f t := by
  unfold res_main_v3 res_main_v1 sinT; clean_types
  generalize lit1 = t0
  pointwise
  rfl

/-- The magnitudes of the frequencies. -/
theorem v7_at (b : Fin 16) (n : Fin 1024) (f : Fin 145) :
    (res_main_v7 V0 (ix3 b n f) : EReal) = mag (inX V0 b) cosT sinT n f := by
  unfold mag; simp only [← v2_at, ← v3_at]
  unfold res_main_v7; clean_types
  pointwise

/-- The magnitudes divided by their norms over the nodes. -/
theorem v15_at (b : Fin 16) (n : Fin 1024) (f : Fin 145) :
    (res_main_v15 V0 (ix3 b n f) : EReal) = overNodes (mag (inX V0 b) cosT sinT) n f := by
  unfold overNodes; simp only [← v7_at]
  unfold res_main_v15; clean_types
  pointwise
  rfl

/-- The layer, at an index. -/
theorem v35_at (b : Fin 16) (n : Fin 1024) (o : Fin 30) : (res_main_v35 V0 (ix3 b n o) : EReal) = feat V0 b n o := by
  unfold feat layer embed overFreqs; simp only [← v15_at]
  unfold res_main_v35; clean_types
  pointwise
  rfl

/-- The mean of the layer. -/
theorem v39_at (b : Fin 16) : (res_main_v39 V0 (ix3 b 0 0) : EReal) = mean (feat V0 b) := by
  unfold mean; simp only [← v35_at]
  unfold res_main_v39; clean_types
  pointwise
  rfl

/-- The layer with its mean taken off. -/
theorem v41_at (b : Fin 16) (n : Fin 1024) (o : Fin 30) :
    (res_main_v41 V0 (ix3 b n o) : EReal) = feat V0 b n o - mean (feat V0 b) := by
  rw [← v35_at, ← v39_at]
  unfold res_main_v41; clean_types
  pointwise

/-- The adjacency, at an index. -/
theorem v58_at (b : Fin 16) (n k : Fin 1024) : (res_main_v58 V0 (ix3 b n k) : EReal) = adj (feat V0 b) (inM V0) n k := by
  unfold adj mix spread
  simp only [← v41_at]
  simp only [← v35_at]
  unfold res_main_v58; clean_types
  pointwise
  simp only [v41_at, v35_at, v39_at]
  rfl

/-- The ranked values: the adjacency and the noise. -/
theorem v63_at (b : Fin 16) (n k : Fin 1024) : (res_main_v63 V0 (ix3 b n k) : EReal) =
    adj (feat V0 b) (inM V0) n k + FloatOps.sitofp (F := Ideal) .f32 (BitVec.setWidth 32 (inQ V0 b n k)) * step := by
  rw [← v58_at]
  unfold res_main_v63; clean_types
  pointwise
  rfl

end Cert.ReferenceIdeal.Value
-- ==== Proof.Layer.lean ====
module

public import proofs.«01_k».proof.Proof.Blocks
public import proofs.«01_k».proof.Proof.Host
public import proofs.«01_k».proof.Proof.Pad
public import proofs.«01_k».proof.Proof.Table
public import proofs.«01_k».proof.Proof.RefRead

@[expose] public section

set_option maxRecDepth 16384
set_option maxHeartbeats 1000000

noncomputable section

/-! The layer the kernel computes is the reference's. -/

namespace Cert.KernelIdeal.Gen

open Idealize.ShloMosaic Idealize.SL.Sem Cert.Model
open Idealize.ShloMosaic.TcCoe
open Cert.ReferenceIdeal.Value (inX inE inN inW inM inQ cosT sinT feat)

/-- The word zero is the number zero. -/
theorem zero_word : Ideal.ofBits .f32 0#32 = (0 : EReal) := by
  simp [Ideal.ofBits, Ideal.ieee]

/-- The layer a block computes is the reference's layer, when the block's operands are the reference's, the table rows that
    pad the frequencies being zero. -/
theorem featBlock_eq (x0 : Vec Ideal S1x288x1024 .f32) (x1 : Vec Ideal S320x288 .f32) (x2 : Vec Ideal S32x160 .f32)
    (x3 : Vec Ideal S10x1024 .f32) (x4 : Vec Ideal S42x30x1024 .bf16)
    (V0 : Valuation Cert.ReferenceIdeal.τ Cert.ReferenceIdeal.sig (Elt Ideal)) (b : Fin 16)
    (h0 : ∀ t n, (x0 (ix3 0 t n) : EReal) = inX V0 b t n)
    (h1 : ∀ f t, (x1 (ix2 f t) : EReal) = Ideal.ofBits .f32 (Cert.KernelIdeal.lit0 (S320x288.rowMajor (ix2 f t))))
    (h2 : ∀ (k : Fin 32) (f : Fin 145), (x2 (ix2 k ⟨f.val, by omega⟩) : EReal) = inE V0 f k)
    (h3 : ∀ k n, (x3 (ix2 k n) : EReal) = inN V0 n k)
    (h4 : ∀ k o n, (x4 (ix3 k o n) : EReal) = inW V0 n k o) :
    featBlock x0 x1 x2 x3 x4 = feat V0 b := by
  unfold featBlock feat
  have e : embed (overFreqs (overNodes (mag (m := 160) (fun t n => x0 (ix3 0 t n))
      (fun f t => x1 (ix2 ⟨f.val, by omega⟩ t)) (fun f t => x1 (ix2 ⟨160 + f.val, by omega⟩ t)))))
      (fun f k => x2 (ix2 k f)) = embed (overFreqs (overNodes (mag (inX V0 b) cosT sinT))) (inE V0) := by
    funext n k
    rw [show (fun t n => (x0 (ix3 0 t n) : EReal)) = inX V0 b from funext fun t => funext fun n => h0 t n]
    refine embed_pad (a := 145) (b := 15) _ _ _ _ _ _ _ (fun f t => ?_) (fun f t => ?_) (fun f k => h2 k f)
      (fun f t => ?_) (fun f t => ?_) n k
    · refine (h1 _ _).trans ?_
      exact congrArg _ (table_cos f t _)
    · refine (h1 _ _).trans ?_
      exact congrArg _ (table_sin f t _)
    · refine (h1 _ _).trans ?_
      exact (congrArg _ (table_cos_pad f t _)).trans zero_word
    · refine (h1 _ _).trans ?_
      exact (congrArg _ (table_sin_pad f t _)).trans zero_word
  rw [e]
  congr 1
  · funext n k; exact h3 k n
  · funext n k o; exact h4 k o n

variable (m : (ℓ : Loc nD τ sig) → Buf (Elt Ideal) ℓ) (ρ : Dev nD → PrngReg) (c : Dev nD)

/-- From agreeing arguments, the first launch computes the reference's layer. -/
theorem layer_feat (V0 : Valuation Cert.ReferenceIdeal.τ Cert.ReferenceIdeal.sig (Elt Ideal)) (b : Fin 16)
    (hX : ∀ b t n, (m ((c.tc : Thread nD τ).loc main_arg0) (ix4 b t n 0) : EReal) = inX V0 b t n)
    (hE : ∀ f k, (m ((c.tc : Thread nD τ).loc main_arg1) (ix2 f k) : EReal) = inE V0 f k)
    (hN : ∀ n k, (m ((c.tc : Thread nD τ).loc main_arg2) (ix2 n k) : EReal) = inN V0 n k)
    (hW : ∀ n k o, (m ((c.tc : Thread nD τ).loc main_arg3) (ix3 n k o) : EReal) = inW V0 n k o) :
    layerOf (V1 m ρ) c b = feat V0 b :=
  featBlock_eq _ _ _ _ _ V0 b
    (fun t n => (series_host (W0 m ρ c) b t n).trans (hX b t n))
    (fun f t => table_host (W0 m ρ c) f t)
    (fun k f => (embed_host (W0 m ρ c) k f).trans (hE f k))
    (fun k n => (nodes_host (W0 m ρ c) k n).trans (hN n k))
    (fun k o n => (weights_host (W0 m ρ c) k o n).trans (hW n k o))

end Cert.KernelIdeal.Gen
-- ==== Proof.TopK.lean ====
module

public import proofs.«01_k».proof.Proof.PreRef
public import proofs.«01_k».proof.Proof.Softmax
public import Idealize.ShloMosaic.Lib.SortFacts

@[expose] public section

set_option maxRecDepth 16384
set_option maxHeartbeats 1000000

noncomputable section

/-! The positions of a row's entries from the greatest down, and what the precondition says of them. -/

namespace Cert.ReferenceIdeal.Value

open Idealize.ShloMosaic Idealize.SL.Sem Cert.ReferenceIdeal Cert.ReferenceIdeal.Gen

/-- The comparison that the ranking uses is "greater than" of the extended reals. -/
theorem gt_eq (a b : EReal) : (FloatOps.cmpfTotal (F := Ideal) (φ := .f32) .gt a b == 1#1) = decide (b < a) := by
  rw [Bool.eq_iff_iff, beq_iff_eq, decide_eq_true_iff]
  change Ideal.cmpTotal .gt a b = 1#1 ↔ _
  by_cases h : b < a <;> simp [Ideal.cmpTotal, Ideal.cmp, CmpDirection.ordered, h]

section
variable {m : ℕ} (v : Fin m → EReal)

/-- The positions of a row's entries, the greatest entry's first. -/
def order : Fin m → Fin m := sortedFrom fun k k' => decide (v k' < v k)

/-- No two ranks have the same position. -/
theorem order_inj : Function.Injective (order v) := sortedFrom_injective _
/-- Every position has a rank. -/
theorem order_surj : Function.Surjective (order v) := sortedFrom_surjective _

/-- A later rank holds no greater entry. -/
theorem order_anti (i j : Fin m) (h : i < j) : v (order v j) ≤ v (order v i) := by
  have := sortedFrom_noInversion (fun k k' => decide (v k' < v k)) (fun k k' => decide (v k' < v k))
    (fun a b h => decide_eq_false (not_lt.2 (of_decide_eq_true h).le))
    (fun a b h => h)
    (fun a b c h1 h2 => decide_eq_false (not_lt.2
      ((not_lt.1 (of_decide_eq_false h1)).trans (not_lt.1 (of_decide_eq_false h2))))) i j h
  exact not_lt.1 (of_decide_eq_false this)

end

/-- An index moved along the last axis. -/
theorem along_ix3 (b : Fin 16) (n i : Fin 1024) (h : 2 < 3) (x : Fin 1024) :
    Shape.Idx.along (s := ⟨3, ![16, 1024, 1024]⟩) (ix3 b n i) ⟨2, h⟩ x = ix3 b n x := by
  funext a; fin_cases a <;> rfl

/-- A sort from the greatest down along the last axis, read at an index. -/
theorem sort_at (v : FVec Ideal ⟨3, ![16, 1024, 1024]⟩ .f32) (y : IVec ⟨3, ![16, 1024, 1024]⟩ 32)
    (b : Fin 16) (n i : Fin 1024) :
    (Host.sort2 ⟨3, ![16, 1024, 1024]⟩ 2 (fun l r => FloatOps.cmpfTotal .gt l.1 r.1) v y).1 (ix3 b n i)
      = v (ix3 b n (order (fun j => v (ix3 b n j)) i))
    ∧ (Host.sort2 ⟨3, ![16, 1024, 1024]⟩ 2 (fun l r => FloatOps.cmpfTotal .gt l.1 r.1) v y).2 (ix3 b n i)
      = y (ix3 b n (order (fun j => v (ix3 b n j)) i)) := by
  have h3 : 2 < (⟨3, ![16, 1024, 1024]⟩ : Shape).rank := by decide
  have e : (fun k k' : Fin 1024 => (FloatOps.cmpfTotal (F := Ideal) (φ := .f32) .gt
      (v (Shape.Idx.along (s := ⟨3, ![16, 1024, 1024]⟩) (ix3 b n i) ⟨2, h3⟩ k))
      (v (Shape.Idx.along (s := ⟨3, ![16, 1024, 1024]⟩) (ix3 b n i) ⟨2, h3⟩ k')) == 1#1))
      = fun k k' => decide (v (ix3 b n k') < v (ix3 b n k)) := by
    funext k k'; rw [gt_eq, along_ix3, along_ix3]
  unfold Host.sort2
  rw [dif_pos (by decide)]
  refine ⟨?_, ?_⟩
  · exact congrArg v ((along_ix3 b n i _ _).trans (congrArg (fun q => ix3 b n (sortedFrom q i)) e))
  · exact congrArg y ((along_ix3 b n i _ _).trans (congrArg (fun q => ix3 b n (sortedFrom q i)) e))

/-- Entry `i` of the greatest of a row is the entry at the row's place `i` from the top, and index `i` is that
    place. -/
theorem topK_at {k : ℕ} (v : FVec Ideal ⟨3, ![16, 1024, 1024]⟩ .f32)
    (h : (⟨3, ![16, 1024, 1024]⟩ : Shape).Slices (fun _ => 0) ⟨3, ![16, 1024, k]⟩)
    (b : Fin 16) (n : Fin 1024) (i : Fin k) (hi : i.val < 1024) :
    (Host.topK ⟨3, ![16, 1024, k]⟩ 2 (FloatOps.cmpfTotal .gt) v h).1 (ix3 b n i)
      = v (ix3 b n (order (fun j => v (ix3 b n j)) ⟨i.val, hi⟩))
    ∧ (Host.topK ⟨3, ![16, 1024, k]⟩ 2 (FloatOps.cmpfTotal .gt) v h).2 (ix3 b n i)
      = BitVec.ofNat 32 (order (fun j => v (ix3 b n j)) ⟨i.val, hi⟩).val := by
  have hs : ∀ {α : Type} (z : (⟨3, ![16, 1024, 1024]⟩ : Shape).Idx → α),
      extractStridedSlice ⟨3, ![16, 1024, k]⟩ (fun _ => 0) z h (ix3 b n i) = z (ix3 b n ⟨i.val, hi⟩) := by
    intro α z
    refine congrArg z (funext fun a => ?_)
    fin_cases a <;> exact Fin.ext (Nat.zero_add _)
  unfold Host.topK
  dsimp only
  refine ⟨(hs _).trans (sort_at v _ b n _).1, ?_⟩
  rw [hs, (sort_at v _ b n _).2, dif_pos (by decide)]
  rfl

/-- The comparison of each entry of a row with the next, read at an index. -/
theorem slices_at (w : FVec Ideal ⟨3, ![16, 1024, 21]⟩ .f32) (b : Fin 16) (n : Fin 1024) (i : Fin 20) :
    cmpf .ogt (extractStridedSlice ⟨3, ![16, 1024, 20]⟩ ![0, 0, 0] w
        Cert.Pre_distinct_top.Facts.slices_S16x1024x21_S16x1024x20_0_0_0)
      (extractStridedSlice ⟨3, ![16, 1024, 20]⟩ ![0, 0, 1] w
        Cert.Pre_distinct_top.Facts.slices_S16x1024x21_S16x1024x20_0_0_1) (ix3 b n i)
      = Ideal.cmp .ogt (w (ix3 b n ⟨i.val, by omega⟩)) (w (ix3 b n ⟨1 + i.val, by omega⟩)) := by
  pointwise

/-- Under the precondition the twenty greatest entries of every row exceed the entries after them. -/
theorem order_strict (v : FVec Ideal ⟨3, ![16, 1024, 1024]⟩ .f32) (hg : gaps v = fun _ => 1#1)
    (b : Fin 16) (n i j : Fin 1024) (hij : i < j) (hj : j.val ≤ 20) :
    v (ix3 b n (order (fun j => v (ix3 b n j)) j)) < v (ix3 b n (order (fun j => v (ix3 b n j)) i)) := by
  have hi : i.val < 20 := by have := Fin.lt_def.1 hij; omega
  have h := congrFun hg (ix3 b n ⟨i.val, hi⟩)
  have hlt : v (ix3 b n (order (fun j => v (ix3 b n j)) ⟨1 + i.val, by omega⟩))
      < v (ix3 b n (order (fun j => v (ix3 b n j)) i)) := by
    have e0 := (topK_at v Cert.Pre_distinct_top.Facts.sliceFits_S16x1024x1024_S16x1024x21 b n ⟨i.val, by omega⟩
      i.isLt).1
    have e1 := (topK_at v Cert.Pre_distinct_top.Facts.sliceFits_S16x1024x1024_S16x1024x21 b n ⟨1 + i.val, by omega⟩
      (by show 1 + i.val < 1024; omega)).1
    have hw := (slices_at _ b n ⟨i.val, hi⟩).symm.trans h
    rw [e0, e1] at hw
    by_contra hn
    simp [Ideal.cmp, hn] at hw
  rcases Nat.lt_or_ge (1 + i.val) j.val with hl | hl
  · exact (order_anti (fun j => v (ix3 b n j)) ⟨1 + i.val, by omega⟩ j hl).trans_lt hlt
  · have : j = ⟨1 + i.val, by omega⟩ := Fin.ext (by have := Fin.lt_def.1 hij; show j.val = 1 + i.val; omega)
    rw [this]; exact hlt

end Cert.ReferenceIdeal.Value
-- ==== Proof.MaskRead.lean ====
module

public import proofs.«01_k».proof.Proof.RefRead
public import proofs.«01_k».proof.Proof.TopK
public import Idealize.ShloMosaic.Lib.Routing.OpsSet
public import Idealize.ShloMosaic.Lib.Routing.OpsPair

@[expose] public section

set_option maxRecDepth 16384
set_option maxHeartbeats 2000000

noncomputable section

/-! The reference's mask of the chosen entries and its softmax, at an index. -/

namespace Cert.ReferenceIdeal.Value

open Idealize.ShloMosaic Idealize.SL.Sem Cert.ReferenceIdeal Cert.ReferenceIdeal.Gen Cert.Model

/-- The index words of the mask: batch, row and column of every chosen entry. -/
def words (x : IVec S16x1x1 32) (y : IVec S1x1024x1 32) (z : IVec S16x1024x20 32) : IVec S16x1024x20x3 32 :=
  concatenate S16x1024x20x3 3
    [⟨S16x1024x20x1, ((broadcastInDim S16x1024x20x1 ![0, 1, 2] bcast_S16x1024x20_S16x1024x20x1_0_1_2 (broadcastInDim S16x1024x20 ![0, 1, 2] bcast_S16x1x1_S16x1024x20_0_1_2
      (select (cmpi .slt x (broadcastInDim S16x1x1 ![] bcast_S_S16x1x1 (constantI S_ 32 0#32))) (addi x (broadcastInDim S16x1x1 ![] bcast_S_S16x1x1 (constantI S_ 32 16#32))) x))))⟩,
    ⟨S16x1024x20x1, ((broadcastInDim S16x1024x20x1 ![0, 1, 2] bcast_S16x1024x20_S16x1024x20x1_0_1_2 (broadcastInDim S16x1024x20 ![0, 1, 2] bcast_S1x1024x1_S16x1024x20_0_1_2
      (select (cmpi .slt y (broadcastInDim S1x1024x1 ![] bcast_S_S1x1024x1 (constantI S_ 32 0#32))) (addi y (broadcastInDim S1x1024x1 ![] bcast_S_S1x1024x1 (constantI S_ 32 1024#32))) y))))⟩,
    ⟨S16x1024x20x1, ((broadcastInDim S16x1024x20x1 ![0, 1, 2] bcast_S16x1024x20_S16x1024x20x1_0_1_2
      (select (cmpi .slt z (broadcastInDim S16x1024x20 ![] bcast_S_S16x1024x20 (constantI S_ 32 0#32))) (addi z (broadcastInDim S16x1024x20 ![] bcast_S_S16x1024x20 (constantI S_ 32 1024#32))) z)))⟩]
    concatenates_S16x1024x20x1_S16x1024x20x1_S16x1024x20x1_S16x1024x20x3_d3

/-- The vector the softmax is taken of: the adjacency times the mask of the chosen entries. -/
def chosen (a : FVec Ideal S16x1024x1024 .f32) (w : IVec S16x1024x20x3 32) : FVec Ideal S16x1024x1024 .f32 :=
  mulf a (Host.scatter scatter_S16x1024x1024_S16x1024x20x3_S16x1024x20_n_012_012_3 (fun _ b => b)
    (broadcastInDim S16x1024x1024 ![] bcast_S_S16x1024x1024 (constant S_ .f32 0x00000000#32)) w
    (broadcastInDim S16x1024x20 ![] bcast_S_S16x1024x20 (constant S_ .f32 0x3F800000#32)))

/-- The printed vector is the adjacency times the mask. -/
theorem v92_eq (V0 : Valuation τ sig (Elt Ideal)) : res_main_v92 V0 =
    chosen (res_main_v58 V0) (words (res_main_v65 V0) (res_main_v67 V0) (res_main_indices V0)) := rfl

/-- Word 0 of an index: the batch. -/
theorem words_0 (x : IVec S16x1x1 32) (y : IVec S1x1024x1 32) (z : IVec S16x1024x20 32) (b : Fin 16) (n : Fin 1024)
    (q : Fin 20) (h : (x (ix3 b 0 0)).toNat < 2 ^ (32 - 1)) :
    words x y z (ix4 b n q 0) = x (ix3 b 0 0) := by
  unfold words
  pointwise
  exact Routing.wrap_of_lt _ _ h

/-- Word 1 of an index: the row. -/
theorem words_1 (x : IVec S16x1x1 32) (y : IVec S1x1024x1 32) (z : IVec S16x1024x20 32) (b : Fin 16) (n : Fin 1024)
    (q : Fin 20) (h : (y (ix3 0 n 0)).toNat < 2 ^ (32 - 1)) :
    words x y z (ix4 b n q 1) = y (ix3 0 n 0) := by
  unfold words
  pointwise
  exact Routing.wrap_of_lt _ _ h

/-- Word 2 of an index: the column. -/
theorem words_2 (x : IVec S16x1x1 32) (y : IVec S1x1024x1 32) (z : IVec S16x1024x20 32) (b : Fin 16) (n : Fin 1024)
    (q : Fin 20) (h : (z (ix3 b n q)).toNat < 2 ^ (32 - 1)) :
    words x y z (ix4 b n q 2) = z (ix3 b n q) := by
  unfold words
  pointwise
  exact Routing.wrap_of_lt _ _ h

/-- Where a chosen entry lands: the words of its index are the coordinates. -/
theorem lands (w : IVec S16x1024x20x3 32) (b : Fin 16) (n : Fin 1024) (q : Fin 20) (p : Fin 16) (r c : Fin 1024) :
    scatter_S16x1024x1024_S16x1024x20x3_S16x1024x20_n_012_012_3.resultIdx? (ix3 b n q) w = some (ix3 p r c)
      ↔ (w (ix4 b n q 0)).toInt = p.val ∧ (w (ix4 b n q 1)).toInt = r.val ∧ (w (ix4 b n q 2)).toInt = c.val := by
  rw [Routing.resultIdx?_eq_some]
  have e : ∀ a : Fin 3, scatter_S16x1024x1024_S16x1024x20x3_S16x1024x20_n_012_012_3.start (ix3 b n q) w a
      + ((scatter_S16x1024x1024_S16x1024x20x3_S16x1024x20_n_012_012_3.window (ix3 b n q) a : ℕ) : Int)
      = (w (ix4 b n q a)).toInt := by
    intro a
    have h0 : scatter_S16x1024x1024_S16x1024x20x3_S16x1024x20_n_012_012_3.window (ix3 b n q) a = 0 := by
      fin_cases a <;> rfl
    have h1 : scatter_S16x1024x1024_S16x1024x20x3_S16x1024x20_n_012_012_3.start (ix3 b n q) w a
        = (w (ix4 b n q a)).toInt := by
      unfold ScatterDims.start
      rw [dif_pos (by fin_cases a <;> decide)]
      refine congrArg (fun i => (w i).toInt) (funext fun x => ?_)
      fin_cases a <;> fin_cases x <;> rfl
    rw [h0, h1]; exact add_zero _
  constructor
  · intro h; exact ⟨(e 0).symm.trans (h 0), (e 1).symm.trans (h 1), (e 2).symm.trans (h 2)⟩
  · intro h a
    refine (e a).trans ?_
    match a with
    | ⟨0, _⟩ => exact h.1
    | ⟨1, _⟩ => exact h.2.1
    | ⟨2, _⟩ => exact h.2.2

/-- A number below 1024 as an index word. -/
theorem word_lt (k : ℕ) (h : k < 1024) : (BitVec.ofNat 32 k).toNat < 2 ^ (32 - 1) := by
  rw [BitVec.toNat_ofNat, Nat.mod_eq_of_lt (by omega)]; omega

/-- Such a word read signed is the number. -/
theorem word_toInt (k : ℕ) (h : k < 1024) : (BitVec.ofNat 32 k).toInt = k := by
  rw [BitVec.toInt_eq_toNat_of_lt (by rw [BitVec.toNat_ofNat, Nat.mod_eq_of_lt (by omega)]; omega),
    BitVec.toNat_ofNat, Nat.mod_eq_of_lt (by omega)]

/-- The batch words. -/
theorem v65_at (V0 : Valuation τ sig (Elt Ideal)) (b : Fin 16) :
    (res_main_v65 V0 : IVec S16x1x1 32) (ix3 b 0 0) = BitVec.ofNat 32 b.val := by
  unfold res_main_v65; clean_types; pointwise

/-- The row words. -/
theorem v67_at (V0 : Valuation τ sig (Elt Ideal)) (n : Fin 1024) :
    (res_main_v67 V0 : IVec S1x1024x1 32) (ix3 0 n 0) = BitVec.ofNat 32 n.val := by
  unfold res_main_v67; clean_types; pointwise

/-- The columns of a row that the mask keeps: the twenty greatest. -/
def kept (v : FVec Ideal S16x1024x1024 .f32) (b : Fin 16) (n : Fin 1024) (j : Fin 1024) : Prop :=
  ∃ k : Fin 1024, k.val < 20 ∧ order (fun j => v (ix3 b n j)) k = j

/-- The words of the mask's indices. -/
theorem words_val (V0 : Valuation τ sig (Elt Ideal)) (b : Fin 16) (n : Fin 1024) (q : Fin 20) (p : Fin 16)
    (r c : Fin 1024) :
    scatter_S16x1024x1024_S16x1024x20x3_S16x1024x20_n_012_012_3.resultIdx? (ix3 b n q)
        (words (res_main_v65 V0) (res_main_v67 V0) (res_main_indices V0)) = some (ix3 p r c)
      ↔ b = p ∧ n = r ∧ order (fun j => res_main_v63 V0 (ix3 b n j)) ⟨q.val, by omega⟩ = c := by
  have hi : (res_main_indices V0 : IVec S16x1024x20 32) (ix3 b n q)
      = BitVec.ofNat 32 (order (fun j => res_main_v63 V0 (ix3 b n j)) ⟨q.val, by omega⟩).val :=
    (topK_at (res_main_v63 V0) _ b n q (by omega)).2
  have hx := v65_at V0 b
  have hy := v67_at V0 n
  rw [lands, words_0 _ _ _ b n q (by rw [hx]; exact word_lt _ (by omega)),
    words_1 _ _ _ b n q (by rw [hy]; exact word_lt _ (by omega)),
    words_2 _ _ _ b n q (by rw [hi]; exact word_lt _ (by omega)), hx, hy, hi,
    word_toInt _ (by omega), word_toInt _ (by omega), word_toInt _ (by omega)]
  simp only [Fin.ext_iff, Nat.cast_inj]

open Classical in
/-- The softmax's argument: the adjacency times one on the kept columns and times zero elsewhere. -/
theorem v92_at (V0 : Valuation τ sig (Elt Ideal)) (b : Fin 16) (n j : Fin 1024) :
    (res_main_v92 V0 (ix3 b n j) : EReal)
      = masked (fun j => res_main_v58 V0 (ix3 b n j)) (kept (res_main_v63 V0) b n) j := by
  rw [v92_eq]
  have hw := words_val V0
  unfold kept
  generalize words (res_main_v65 V0) (res_main_v67 V0) (res_main_indices V0) = w at hw ⊢
  generalize (res_main_v63 V0 : FVec Ideal S16x1024x1024 .f32) = v at hw ⊢
  show (chosen (res_main_v58 V0) w (ix3 b n j) : EReal) = _
  generalize (res_main_v58 V0 : FVec Ideal S16x1024x1024 .f32) = a
  unfold chosen masked
  refine congrArg (HMul.hMul (α := EReal) (a (ix3 b n j))) ?_
  by_cases h : ∃ k : Fin 1024, k.val < 20 ∧ order (fun j => v (ix3 b n j)) k = j
  · rw [if_pos h]
    obtain ⟨k, hk, e⟩ := h
    refine Routing.scatter_set_hit _ _ _ _ _ _ (fun k' hk' => ?_) (ix3 b n (⟨k.val, hk⟩ : Fin 20)) ((hw _ _ _ _ _ _).2 ⟨rfl, rfl, e⟩)
    pointwise
  · rw [if_neg h]
    refine (Routing.scatter_set_miss _ _ _ _ _ fun k' => ?_).trans ?_
    · rw [ValueIdx.eq_ix3 k']
      intro hk'
      obtain ⟨e0, e1, e2⟩ := (hw _ _ _ _ _ _).1 hk'
      rw [e0, e1] at e2
      exact h ⟨⟨(k' 2).val, lt_trans (k' 2).isLt (by decide)⟩, (k' 2).isLt, e2⟩
    · pointwise

/-- The greatest value of every row. -/
def tops (w : FVec Ideal S16x1024x1024 .f32) : FVec Ideal S16x1024 .f32 :=
  maximumf (broadcastInDim S16x1024 ![] bcast_S_S16x1024 (constant S_ .f32 0xFF800000#32))
    (Host.reduce FloatOps.maximumf w (constant S_ .f32 0xFF800000#32) reducesTo_S16x1024x1024_S16x1024_d2 h_S_)

/-- A vector's exponentials against one value for every row. -/
def expRow (w : FVec Ideal S16x1024x1024 .f32) (r : FVec Ideal S16x1024 .f32) : FVec Ideal S16x1024x1024 .f32 :=
  Host.exp (subf w (broadcastInDim S16x1024x1024 ![0, 1, 2] bcast_S16x1024x1_S16x1024x1024_0_1_2
    (broadcastInDim S16x1024x1 ![0, 1] bcast_S16x1024_S16x1024x1_0_1 r)))

/-- The printed exponentials. -/
theorem v99_eq (V0 : Valuation τ sig (Elt Ideal)) :
    res_main_v99 V0 = expRow (res_main_v92 V0) (tops (res_main_v92 V0)) := rfl

/-- The maximum of a constant and a vector, read at an index. -/
theorem maxConst_at (r : FVec Ideal S16x1024 .f32) (b : Fin 16) (n : Fin 1024) :
    (maximumf (broadcastInDim S16x1024 ![] bcast_S_S16x1024 (constant S_ .f32 0xFF800000#32)) r (ix2 b n) : EReal)
      = max (Ideal.ofBits .f32 0xFF800000#32) (r (ix2 b n)) := by
  pointwise

/-- The maximum of a row. -/
theorem fold_at (w : FVec Ideal S16x1024x1024 .f32) (b : Fin 16) (n : Fin 1024) :
    Host.reduce FloatOps.maximumf w (constant S_ .f32 0xFF800000#32) reducesTo_S16x1024x1024_S16x1024_d2 h_S_ (ix2 b n)
      = Finset.univ.fold max (Ideal.ofBits .f32 0xFF800000#32) fun k : Fin 1024 => w (ix3 b n k) :=
  rowTop w (constant S_ .f32 0xFF800000#32) reducesTo_S16x1024x1024_S16x1024_d2 h_S_ b n

/-- The greatest value of a row, read at the row. -/
theorem tops_at (w : FVec Ideal S16x1024x1024 .f32) (b : Fin 16) (n : Fin 1024) :
    (tops w (ix2 b n) : EReal) = top fun k => w (ix3 b n k) := by
  unfold tops top
  rw [maxConst_at, fold_at, bits_bot, max_eq_right bot_le]

/-- The exponentials at an index. -/
theorem expRow_at (w : FVec Ideal S16x1024x1024 .f32) (r : FVec Ideal S16x1024 .f32) (b : Fin 16) (n j : Fin 1024) :
    (expRow w r (ix3 b n j) : EReal) = Ideal.exp (w (ix3 b n j) - r (ix2 b n)) := by
  unfold expRow
  pointwise

/-- Exponentials over their row sums. -/
def overRows (e : FVec Ideal S16x1024x1024 .f32) : FVec Ideal S16x1024x1024 .f32 :=
  Host.divf e (broadcastInDim S16x1024x1024 ![0, 1, 2] bcast_S16x1024x1_S16x1024x1024_0_1_2 (broadcastInDim S16x1024x1 ![0, 1] bcast_S16x1024_S16x1024x1_0_1 (Host.reduceAdd e (constant S_ .f32 0x00000000#32) reducesTo_S16x1024x1024_S16x1024_d2 h_S_)))

/-- The quotients at an index. -/
theorem overRows_at (e : FVec Ideal S16x1024x1024 .f32) (b : Fin 16) (n j : Fin 1024) :
    (overRows e (ix3 b n j) : EReal) = Ideal.div (e (ix3 b n j)) (∑ k, (e (ix3 b n k) : EReal)) := by
  unfold overRows
  pointwise

open Classical in
/-- The reference's result at an index: the softmax of the adjacency row with the entries that are not kept set to
    zero. -/
theorem result_at (V0 : Valuation τ sig (Elt Ideal)) (b : Fin 16) (n j : Fin 1024) :
    (overRows (res_main_v99 V0) (ix3 b n j) : EReal)
      = let w := masked (fun j => res_main_v58 V0 (ix3 b n j)) (kept (res_main_v63 V0) b n)
        Ideal.div (expo w j) (∑ k, expo w k) := by
  have e : ∀ j, (res_main_v99 V0 (ix3 b n j) : EReal)
      = expo (masked (fun j => res_main_v58 V0 (ix3 b n j)) (kept (res_main_v63 V0) b n)) j := by
    intro j
    have hw : (fun k => (res_main_v92 V0 (ix3 b n k) : EReal))
        = masked (fun j => res_main_v58 V0 (ix3 b n j)) (kept (res_main_v63 V0) b n) := funext (v92_at V0 b n)
    rw [v99_eq, expRow_at, tops_at, hw, v92_at]
    rfl
  refine (overRows_at _ b n j).trans ?_
  rw [e]
  exact congrArg (Ideal.div _) (Finset.sum_congr (ι := Fin 1024) (M := EReal) rfl fun k _ => e k)

end Cert.ReferenceIdeal.Value
-- ==== Proof.RefValue.lean ====
module

public import proofs.«01_k».proof.Proof.MaskRead
public import proofs.«01_k».proof.Proof.StageB

@[expose] public section

set_option maxRecDepth 16384
set_option maxHeartbeats 1000000

noncomputable section

/-! The reference's result, in the form the kernel computes it. -/

namespace Cert.ReferenceIdeal.Value

open Idealize.ShloMosaic Idealize.SL.Sem Cert.ReferenceIdeal Cert.ReferenceIdeal.Gen Cert.Model
open Cert.KernelIdeal.Gen (noise_nonneg)

variable (V0 : Valuation τ sig (Elt Ideal))

/-- The ranked values of a row. -/
def ranked (b : Fin 16) (n : Fin 1024) (j : Fin 1024) : EReal := res_main_v63 V0 (ix3 b n j)

/-- An infinite entry of the adjacency is kept: its ranked value is infinite, and an entry that is not kept lies strictly
    below the greatest one. -/
theorem kept_of_top (hg : gaps (res_main_v63 V0) = fun _ => 1#1) (b : Fin 16) (n j : Fin 1024)
    (h : adj (feat V0 b) (inM V0) n j = ⊤) : kept (res_main_v63 V0) b n j := by
  obtain ⟨k, hk⟩ := order_surj (ranked V0 b n) j
  refine ⟨k, ?_, hk⟩
  by_contra hlt
  have hv : ranked V0 b n j = ⊤ := by
    refine (v63_at V0 b n j).trans ?_
    rw [h]
    exact EReal.top_add_of_ne_bot (ne_of_gt (lt_of_lt_of_le EReal.bot_lt_zero (noise_nonneg _)))
  have h1 : ranked V0 b n (order (ranked V0 b n) k) ≤ ranked V0 b n (order (ranked V0 b n) 1) :=
    order_anti (ranked V0 b n) 1 k (by
      show (1 : ℕ) < k.val
      omega)
  have h2 : ranked V0 b n (order (ranked V0 b n) 1) < ranked V0 b n (order (ranked V0 b n) 0) :=
    order_strict (res_main_v63 V0) hg b n 0 1 (by decide) (by decide)
  rw [hk, hv] at h1
  exact absurd (lt_of_le_of_lt h1 h2) not_top_lt

open Classical in
/-- The reference's result at an index: the exponentials of the masked row against the whole row's greatest entry, over
    their sum. -/
theorem result_sel (hg : gaps (res_main_v63 V0) = fun _ => 1#1) (b : Fin 16) (n j : Fin 1024) :
    (overRows (res_main_v99 V0) (ix3 b n j) : EReal)
      = Ideal.div (expoSel (adj (feat V0 b) (inM V0) n) (kept (res_main_v63 V0) b n) j)
        (∑ k, expoSel (adj (feat V0 b) (inM V0) n) (kept (res_main_v63 V0) b n) k) := by
  rw [result_at]
  have e : (fun j => (res_main_v58 V0 (ix3 b n j) : EReal)) = adj (feat V0 b) (inM V0) n :=
    funext fun j => v58_at V0 b n j
  rw [e]
  exact softmax_masked _ _ (fun i => le_max_right _ _) (fun i h => kept_of_top V0 hg b n i h) j

end Cert.ReferenceIdeal.Value
-- ==== Proof.Value.lean ====
module

public import proofs.«01_k».proof.Proof.Layer
public import proofs.«01_k».proof.Proof.RefValue

@[expose] public section

set_option maxRecDepth 16384
set_option maxHeartbeats 1000000

noncomputable section

/-! The kernel's result is the reference's. -/

namespace Cert.KernelIdeal.Gen

open Idealize.ShloMosaic Idealize.SL.Sem Cert.Model
open Idealize.ShloMosaic.TcCoe
open Cert.ReferenceIdeal.Value (inX inE inN inW inM inQ feat order order_inj order_surj order_anti order_strict
  gaps kept overRows result_sel v63_at)
open Cert.ReferenceIdeal.Value (res_main_v63 res_main_v99)

variable (m : (ℓ : Loc nD τ sig) → Buf (Elt Ideal) ℓ) (ρ : Dev nD → PrngReg) (c : Dev nD)
variable (V0 : Valuation Cert.ReferenceIdeal.τ Cert.ReferenceIdeal.sig (Elt Ideal))

/-- The arguments of the two programs agree. -/
structure Agree : Prop where
  series : ∀ b t n, (m ((c.tc : Thread nD τ).loc main_arg0) (ix4 b t n 0) : EReal) = inX V0 b t n
  freqs : ∀ f k, (m ((c.tc : Thread nD τ).loc main_arg1) (ix2 f k) : EReal) = inE V0 f k
  nodes : ∀ n k, (m ((c.tc : Thread nD τ).loc main_arg2) (ix2 n k) : EReal) = inN V0 n k
  weights : ∀ n k o, (m ((c.tc : Thread nD τ).loc main_arg3) (ix3 n k o) : EReal) = inW V0 n k o
  mixing : ∀ i o, (m ((c.tc : Thread nD τ).loc main_arg4) (ix2 i o) : EReal) = inM V0 i o
  noise : ∀ b n k, m ((c.tc : Thread nD τ).loc main_arg5) (ix3 b n k) = inQ V0 b n k

variable {m c V0}

/-- What the second launch reads as the layer. -/
theorem feat_array (h : Agree m c V0) (b : Fin 16) (o : Fin 30) (n : Fin 1024) :
    (V2 m ρ c main_call0_v8_0 (ix3 b o n) : EReal) = feat V0 b n o := by
  have e : V2 m ρ c main_call0_v8_0 = (dat0 (V1 m ρ) c).arrAt 6 cfg0.N := W2_arr m ρ c 6
  rw [e, arr_layer]
  exact congrFun (congrFun (layer_feat m ρ c V0 b h.series h.freqs h.nodes h.weights) n) o

/-- What the second launch reads as the mixed layer. -/
theorem mix_array (h : Agree m c V0) (b : Fin 16) (o : Fin 30) (n : Fin 1024) :
    (V2 m ρ c main_call0_v8_1 (ix3 b o n) : EReal) = mix (feat V0 b) (inM V0) n o := by
  have e : V2 m ρ c main_call0_v8_1 = (dat0 (V1 m ρ) c).arrAt 7 cfg0.N := W2_arr m ρ c 7
  have e4 : V1 m ρ c main_arg4 = m ((c : Thread nD τ).loc main_arg4) := W1_args m ρ c main_arg4 (by decide)
  have e5 : (fun k o => (V1 m ρ c main_arg4 (ix2 k o) : EReal)) = inM V0 := by
    rw [e4]; exact funext fun k => funext fun o => h.mixing k o
  rw [e, arr_mix]
  refine (congrFun (congrFun (congrArg (fun g => mix g _) (layer_feat m ρ c V0 b h.series h.freqs h.nodes h.weights)) n) o).trans ?_
  exact congrFun (congrFun (congrArg (fun M => mix (feat V0 b) M) e5) n) o

/-- What the second launch reads as the noise words. -/
theorem noise_array (h : Agree m c V0) (b : Fin 16) (n k : Fin 1024) :
    V2 m ρ c main_arg5 (ix3 b n k) = inQ V0 b n k := by
  have e : V2 m ρ c main_arg5 = m ((c : Thread nD τ).loc main_arg5) := W2_args m ρ c main_arg5 (by decide)
  rw [e]; exact h.noise b n k

/-- A row of the adjacency as a point of the second launch computes it. -/
theorem adj_block (h : Agree m c V0) (t : Fin cfg1.N) (b : Fin 16) (hb : b.val = (grid1.coords t 0).val) (r : Fin 1024)
    (R : Fin 256) (hr : r.val = (grid1.coords t 1).val * 256 + R.val) :
    adjBlock (iblk1 (V2 m ρ) c 0 t) (iblk1 (V2 m ρ) c 1 t) R = adj (feat V0 b) (inM V0) r := by
  funext j
  unfold adjBlock adj
  refine congrArg (fun s : EReal => max s 0) (Finset.sum_congr rfl fun o _ => ?_)
  rw [block_mix (V2 m ρ) c t b hb r R hr o, block_feat (V2 m ρ) c t b hb o j, mix_array ρ h, feat_array ρ h]

/-- The kept entries, by the order of the row. -/
theorem kept_iff (v : FVec Ideal Cert.ReferenceIdeal.S16x1024x1024 .f32) (b : Fin 16) (r : Fin 1024)
    (u : Fin 1024 → EReal) (hu : u = fun j => (v (ix3 b r j) : EReal)) (i : Fin 1024) :
    (∃ k : Fin 1024, k.val < 20 ∧ order u k = i) ↔ kept v b r i := by
  subst hu
  exact Iff.rfl

open Classical in
/-- A block of the second launch whose ranked values are a row of `v`: the row's softmax over the entries kept. -/
theorem out3_kept (x0 : Vec Ideal S1x30x256 .f32) (x1 : Vec Ideal S1x30x1024 .f32) (x2 : Vec Ideal S1x256x1024 .i8)
    (R : Fin 256) (v : FVec Ideal Cert.ReferenceIdeal.S16x1024x1024 .f32) (hg : gaps v = fun _ => 1#1) (b : Fin 16)
    (r : Fin 1024) (u : Fin 1024 → EReal) (hu : u = fun j => (v (ix3 b r j) : EReal))
    (hq : ∀ j, u j = adjBlock x0 x1 R j
      + FloatOps.sitofp (F := Ideal) .f32 (BitVec.setWidth 32 (x2 (ix3 0 R j) : BitVec 8)) * step)
    (a : Fin 1024 → EReal) (ha : adjBlock x0 x1 R = a) (j : Fin 1024) :
    (out1_3 x0 x1 x2 (ix3 0 R j) : EReal)
      = Ideal.div (expoSel a (kept v b r) j) (∑ k, expoSel a (kept v b r) k) := by
  have hs : ∀ i j : Fin 1024, i < j → j.val ≤ 20 → u (order u j) < u (order u i) := by
    subst hu
    exact fun i j hij hj => order_strict v hg b r i j hij hj
  have ho := out3_at x0 x1 x2 R u hq (order u) (order_inj _) (order_surj _) (fun i j hij => order_anti u i j hij) hs j
  exact ho.trans (softmax_congr _ _ ha _ _ (kept_iff v b r u hu) j)

open Classical in
/-- What a point of the second launch leaves: a row's softmax over the entries that the ranking `v` keeps. -/
theorem point_softmax (h : Agree m c V0) (v : FVec Ideal Cert.ReferenceIdeal.S16x1024x1024 .f32)
    (hv : ∀ b n j, (v (ix3 b n j) : EReal) = adj (feat V0 b) (inM V0) n j
      + FloatOps.sitofp (F := Ideal) .f32 (BitVec.setWidth 32 (inQ V0 b n j)) * step)
    (hg : gaps v = fun _ => 1#1) (t : Fin cfg1.N) (b : Fin 16) (hb : b.val = (grid1.coords t 0).val) (r : Fin 1024)
    (R : Fin 256) (hr : r.val = (grid1.coords t 1).val * 256 + R.val) (j : Fin 1024) :
    (out1_3 (iblk1 (V2 m ρ) c 0 t) (iblk1 (V2 m ρ) c 1 t) (iblk1 (V2 m ρ) c 2 t) (ix3 0 R j) : EReal)
      = Ideal.div (expoSel (adj (feat V0 b) (inM V0) r) (kept v b r) j)
        (∑ k, expoSel (adj (feat V0 b) (inM V0) r) (kept v b r) k) := by
  have ha := adj_block ρ h t b hb r R hr
  refine out3_kept _ _ _ R v hg b r (fun j => v (ix3 b r j)) rfl (fun j => ?_) _ ha j
  rw [ha, block_noise (V2 m ρ) c t b hb r R hr j, noise_array ρ h]
  exact hv b r j

open Classical in
/-- After the second launch: any array whose rows are those softmaxes. -/
theorem arr_softmax (h : Agree m c V0) (v G : FVec Ideal Cert.ReferenceIdeal.S16x1024x1024 .f32)
    (hv : ∀ b n j, (v (ix3 b n j) : EReal) = adj (feat V0 b) (inM V0) n j
      + FloatOps.sitofp (F := Ideal) .f32 (BitVec.setWidth 32 (inQ V0 b n j)) * step)
    (hg : gaps v = fun _ => 1#1)
    (hG : ∀ b n j, (G (ix3 b n j) : EReal) = Ideal.div (expoSel (adj (feat V0 b) (inM V0) n) (kept v b n) j)
      (∑ k, expoSel (adj (feat V0 b) (inM V0) n) (kept v b n) k)) :
    (dat1 (V2 m ρ) c).arrAt 3 cfg1.N = G := by
  refine (dat1 (V2 m ρ) c).arrAt_eq_of_covers 3 _ (by decide +kernel) fun t hf y => ?_
  blk_simp
  rw [after1_3]
  obtain ⟨R, j, rfl⟩ : ∃ (R : Fin 256) (j : Fin 1024), y = ix3 (0 : Fin 1) R j := ⟨y 1, y 2, by
    refine funext fun a => ?_
    match a with
    | ⟨0, _⟩ => exact Subsingleton.elim (α := Fin 1) _ _
    | ⟨1, _⟩ => rfl
    | ⟨2, _⟩ => rfl⟩
  obtain ⟨b, hb⟩ : ∃ b : Fin 16, b.val = (grid1.coords t 0).val := ⟨grid1.coords t 0, rfl⟩
  obtain ⟨r, hr⟩ : ∃ r : Fin 1024, r.val = (grid1.coords t 1).val * 256 + R.val :=
    ⟨⟨(grid1.coords t 1).val * 256 + R.val, by
      have h4 : (grid1.coords t 1).val < 4 := (grid1.coords t 1).isLt
      omega⟩, rfl⟩
  have e : G ((win1_3.blk t).view.emb (ix3 0 R j)) = G (ix3 b r j) := congrArg G (place3 t b hb r R hr j)
  exact (point_softmax ρ h v hv hg t b hb r R hr j).trans ((hG b r j).symm.trans e.symm)

/-- After the second launch: the reference's result. -/
theorem arr_result (h : Agree m c V0) (hg : gaps (res_main_v63 V0) = fun _ => 1#1) :
    (dat1 (V2 m ρ) c).arrAt 3 cfg1.N = overRows (res_main_v99 V0) :=
  arr_softmax ρ h (res_main_v63 V0) (overRows (res_main_v99 V0)) (fun b n j => v63_at V0 b n j) hg
    (fun b n j => result_sel V0 hg b n j)

end Cert.KernelIdeal.Gen
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_distinct_top
public import proofs.«01_k».proof.Proof.PreRef
public import proofs.«01_k».proof.Proof.Run
public import proofs.«01_k».proof.Proof.Value

@[expose] public section

set_option maxRecDepth 16384

noncomputable section

/-! The claims, from the two programs' runs and the equality of their results. -/

namespace Cert.Proof

open Idealize.ShloMosaic Idealize.SL.Sem
open Idealize.ShloMosaic.TcCoe
open Cert.ReferenceIdeal.Value (gaps overRows res_main_v63 res_main_v99 pre_eq)

/-- Where the arguments of the two programs are the same arrays, they agree entry by entry. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.KernelIdeal.Gen.Agree m c (StableHlo.launchContents m' c) where
  series b t n := (congrFun h0 _).symm
  freqs f k := (congrFun h1 _).symm
  nodes n k := (congrFun h2 _).symm
  weights n k o := (congrFun h3 _).symm
  mixing i o := (congrFun h4 _).symm
  noise b n k := (congrFun h5 _).symm

/-- The reference runs, leaves its arguments, and its semaphores are at zero. -/
theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- From equal arguments that meet the precondition the kernel and the reference end with equal results. -/
theorem algebraic : Cert.algebraic_KernelIdeal_ReferenceIdeal_pre_distinct_top := by
  intro m g m' g' hpre hagree
  refine ⟨fun c => overRows (res_main_v99 (StableHlo.launchContents m' c)), ?_, ?_⟩
  · refine (θ_run Cert.KernelIdeal.defs _ _).mono (fun r h c => ⟨(h c).1.trans ?_, (h c).2⟩)
      (Cert.KernelIdeal.Gen.run m g)
    obtain ⟨h0, h1, h2, h3, h4, h5⟩ := hagree c
    refine Cert.KernelIdeal.Gen.arr_result g (agree m m' c h0 h1 h2 h3 h4 h5) ?_
    refine (pre_eq (StableHlo.launchContents m' c)).symm.trans ?_
    have hp := hpre c
    rw [← h0, ← h1, ← h2, ← h3, ← h4, ← h5] at hp
    exact hp
  · exact (θ_run Cert.ReferenceIdeal.defs _ _).mono (fun r h c => ⟨(h c).1, (h c).2⟩)
      (Cert.ReferenceIdeal.Value.run m' g')

/-- The program as printed, its idealization and the reference run and leave their arguments; nothing was rewritten
    between the first two; and the last two end with equal results. -/
theorem claim : Cert.Claim :=
  ⟨Cert.Kernel.Gen.facts, Cert.KernelIdeal.Gen.facts, inferInstance, inferInstance,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic⟩

end Cert.Proof

end
